-- ==== Defs.lean ====
def Pre_KernelIdeal [hPre_positions_in_range : Cert.Pre_positions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_draw_is_decided [hPre_draw_is_decided : Cert.Pre_draw_is_decided.Facts] (m : (ℓ : Loc Cert.KernelIdeal.nD Cert.KernelIdeal.τ Cert.KernelIdeal.sig) → Buf (Elt Ideal) ℓ) : Prop :=
  ∀ c : Dev Cert.KernelIdeal.nD,
    (Cert.Pre_draw_is_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_draw_is_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_draw_is_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_draw_is_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_draw_is_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_draw_is_decided [hPre_draw_is_decided : Cert.Pre_draw_is_decided.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_draw_is_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_draw_is_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_draw_is_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_draw_is_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_draw_is_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_KernelIdeal [hKernelIdeal : Cert.KernelIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_draw_is_decided [hKernelIdeal : Cert.KernelIdeal.Facts] [hPre_draw_is_decided : Cert.Pre_draw_is_decided.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_draw_is_decided m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_draw_is_decided [hReferenceIdeal : Cert.ReferenceIdeal.Facts] [hPre_draw_is_decided : Cert.Pre_draw_is_decided.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_draw_is_decided m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def algebraic_KernelIdeal_ReferenceIdeal_pre_draw_is_decided [hKernelIdeal : Cert.KernelIdeal.Facts] [hReferenceIdeal : Cert.ReferenceIdeal.Facts] [hPre_draw_is_decided : Cert.Pre_draw_is_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_draw_is_decided m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernelIdeal : Cert.KernelIdeal.Facts) (hReferenceIdeal : Cert.ReferenceIdeal.Facts) (hPre_positions_in_range : Cert.Pre_positions_in_range.Facts) (hPre_draw_is_decided : Cert.Pre_draw_is_decided.Facts),
    quiescent_KernelIdeal (hKernelIdeal := hKernelIdeal) (hPre_positions_in_range := hPre_positions_in_range)
    ∧ quiescent_KernelIdeal_pre_draw_is_decided (hKernelIdeal := hKernelIdeal) (hPre_draw_is_decided := hPre_draw_is_decided)
    ∧ quiescent_ReferenceIdeal (hReferenceIdeal := hReferenceIdeal)
    ∧ quiescent_ReferenceIdeal_pre_draw_is_decided (hReferenceIdeal := hReferenceIdeal) (hPre_draw_is_decided := hPre_draw_is_decided)
    ∧ algebraic_KernelIdeal_ReferenceIdeal_pre_draw_is_decided (hKernelIdeal := hKernelIdeal) (hReferenceIdeal := hReferenceIdeal) (hPre_draw_is_decided := hPre_draw_is_decided)
-- ==== Pre_draw_is_decided.lean ====
abbrev S2x4096x4096 : Shape := ⟨3, ![2, 4096, 4096]⟩
abbrev S4096x4096 : Shape := ⟨2, ![4096, 4096]⟩
abbrev S30 : Shape := ⟨1, ![30]⟩
abbrev S30x4096 : Shape := ⟨2, ![30, 4096]⟩
abbrev S4096 : Shape := ⟨1, ![4096]⟩
abbrev S_ : Shape := ⟨0, ![]⟩
abbrev S30x1 : Shape := ⟨2, ![30, 1]⟩

class Facts : Prop where
  bcast_S30_S30x1_0 : S30.BroadcastsInDim S30x1 (![0] : Fin 1 → Fin S30x1.rank)
  reducesTo_S30x4096_S30_d1 : S30x4096.ReducesTo [1] S30
  h_S_ : 0 < S_.numel
  bcast_S_S30x1 : S_.BroadcastsInDim S30x1 (![] : Fin 0 → Fin S30x1.rank)
  bcast_S30x1_S30x4096_0_1 : S30x1.BroadcastsInDim S30x4096 (![0, 1] : Fin 2 → Fin S30x4096.rank)
  bcast_S_S30x4096 : S_.BroadcastsInDim S30x4096 (![] : Fin 0 → Fin S30x4096.rank)
  bcast_S_S30 : S_.BroadcastsInDim S30 (![] : Fin 0 → Fin S30.rank)
  gather_S4096x4096_S30x1_S30x4096_1_0_n_n_0_1_14096_wf : GatherDims.WF S4096x4096 S30x1 S30x4096 [1] [0] [] [0] [] 1 ![1, 4096]

variable [Facts]

def gather_S4096x4096_S30x1_S30x4096_1_0_n_n_0_1_14096 : GatherDims S4096x4096 S30x1 S30x4096 where
  offsetDims := [1]
  collapsedSliceDims := [0]
  operandBatchingDims := []
  startIndicesBatchingDims := []
  startIndexMap := [0]
  indexVectorDim := 1
  sliceSizes := ![1, 4096]
  wf := gather_S4096x4096_S30x1_S30x4096_1_0_n_n_0_1_14096_wf

noncomputable abbrev lit0t0_0 (i : Nat) : BitVec 32 := match i % 128 with
  | 0 => 0x3EAB0E4A#32
  | 1 => 0x3F73B78C#32
  | 2 => 0x3F39BC5F#32
  | 3 => 0x3F0C54F9#32
  | 4 => 0x3E683F8F#32
  | 5 => 0x3F204922#32
  | 6 => 0xBF73E6F3#32
  | 7 => 0x3FAF0D2E#32
  | 8 => 0x3F836D1E#32
  | 9 => 0x3FCDEEA3#32
  | 10 => 0xBD43BFA5#32
  | 11 => 0x3FFF5935#32
  | 12 => 0x402415CF#32
  | 13 => 0x3FF24295#32
  | 14 => 0x3E9ACDE2#32
  | 15 => 0x3FCDD046#32
  | 16 => 0x3F89DE2A#32
  | 17 => 0x3F20F72E#32
  | 18 => 0xBF7552C6#32
  | 19 => 0x3FB0AC30#32
  | 20 => 0x3DCC9087#32
  | 21 => 0xBF41473A#32
  | 22 => 0xBFA55E9A#32
  | 23 => 0x3F4DCDB0#32
  | 24 => 0x3DCD7DA6#32
  | 25 => 0x400840B0#32
  | 26 => 0xBF6B5575#32
  | 27 => 0xBE4848EB#32
  | 28 => 0x3F31924D#32
  | 29 => 0x40302C63#32
  | 30 => 0x3FA31344#32
  | 31 => 0x3E7F137C#32
  | 32 => 0xBE283972#32
  | 33 => 0x3F9FFBB2#32
  | 34 => 0x3EFE4998#32
  | 35 => 0xBC2C2629#32
  | 36 => 0x3F6F7562#32
  | 37 => 0x3F23C4C2#32
  | 38 => 0xBE5E16D7#32
  | 39 => 0xBF02FBB8#32
  | 40 => 0x3E04D2F9#32
  | 41 => 0x3F3DC746#32
  | 42 => 0x3E21B668#32
  | 43 => 0x3EF3C42E#32
  | 44 => 0x3F53B998#32
  | 45 => 0xBF284568#32
  | 46 => 0x3F6C9A51#32
  | 47 => 0x4007C0A5#32
  | 48 => 0x3F682F20#32
  | 49 => 0xBEB4EAF1#32
  | 50 => 0x3F1378FA#32
  | 51 => 0x3E150E7E#32
  | 52 => 0x3DFF93A0#32
  | 53 => 0x40107648#32
  | 54 => 0x3F54388E#32
  | 55 => 0x3E2BD298#32
  | 56 => 0x3DD05F38#32
  | 57 => 0xBD95F02B#32
  | 58 => 0x3F517270#32
  | 59 => 0x40051F5F#32
  | 60 => 0xBF245BA8#32
  | 61 => 0xBEDE6D52#32
  | 62 => 0x3FED5EEE#32
  | 63 => 0xBCCE3389#32
  | 64 => 0x3E9B7BC1#32
  | 65 => 0xBFAE81C2#32
  | 66 => 0x402B1C60#32
  | 67 => 0xBF77EC6E#32
  | 68 => 0x3EEBDEAD#32
  | 69 => 0xBEEC76A7#32
  | 70 => 0x3E6EFBD3#32
  | 71 => 0xBF0739CC#32
  | 72 => 0x3F8B0A82#32
  | 73 => 0xBF259FD0#32
  | 74 => 0xBF600EB3#32
  | 75 => 0x403D020C#32
  | 76 => 0x3ED4E156#32
  | 77 => 0xBF4D323C#32
  | 78 => 0x3E22509E#32
  | 79 => 0x3F93BEBE#32
  | 80 => 0x3DAFC635#32
  | 81 => 0x4015FB9A#32
  | 82 => 0x3FEC3764#32
  | 83 => 0x3FDF3A87#32
  | 84 => 0xBFA7D23B#32
  | 85 => 0xBE409244#32
  | 86 => 0xBFC2F47F#32
  | 87 => 0x3FF57B57#32
  | 88 => 0x409A08E0#32
  | 89 => 0x3FAAE17B#32
  | 90 => 0x3FA9FDF3#32
  | 91 => 0xBF0739EC#32
  | 92 => 0xBE594CBF#32
  | 93 => 0x3F6A7643#32
  | 94 => 0xBDD28FB9#32
  | 95 => 0x400ABC8A#32
  | 96 => 0x3E2FA35C#32
  | 97 => 0x3F123094#32
  | 98 => 0x3F355EEA#32
  | 99 => 0xBF1C7778#32
  | 100 => 0x3EE9934E#32
  | 101 => 0x3FB98240#32
  | 102 => 0x3E06794A#32
  | 103 => 0xBFAC64FC#32
  | 104 => 0x3F8AC671#32
  | 105 => 0x3FC5D3BE#32
  | 106 => 0x3EAB4A43#32
  | 107 => 0xBF7C14F0#32
  | 108 => 0xBEB330A4#32
  | 109 => 0xBF26EFB2#32
  | 110 => 0x3F69D65E#32
  | 111 => 0x3FA4B222#32
  | 112 => 0xBD625E24#32
  | 113 => 0x3FEFBE39#32
  | 114 => 0x3F07467E#32
  | 115 => 0xBDE8C757#32
  | 116 => 0x3F2545A2#32
  | 117 => 0x3F4C1BB9#32
  | 118 => 0x3F918122#32
  | 119 => 0xBD0D3FCB#32
  | 120 => 0x3BEFE5C2#32
  | 121 => 0x3E1CE74D#32
  | 122 => 0x3E4F1092#32
  | 123 => 0x3F79A350#32
  | 124 => 0x401A0120#32
  | 125 => 0xBFB5BDD0#32
  | 126 => 0x3F6A7D1C#32
  | 127 => 0x3F96B8CD#32
  | _ => 0#32

noncomputable abbrev lit0t0_1 (i : Nat) : BitVec 32 := match i % 128 with
  | 0 => 0x3FECFC2F#32
  | 1 => 0xBF66B36C#32
  | 2 => 0x3EDC1EDB#32
  | 3 => 0x401B10D2#32
  | 4 => 0xBF19B564#32
  | 5 => 0x3E2BDBB9#32
  | 6 => 0x40977B06#32
  | 7 => 0x3F5356FC#32
  | 8 => 0xBE364290#32
  | 9 => 0x3FB9796F#32
  | 10 => 0x3E6B66D0#32
  | 11 => 0x3FFE66C7#32
  | 12 => 0xBB45FB5E#32
  | 13 => 0x3FBBEA85#32
  | 14 => 0x3F1A7C77#32
  | 15 => 0x3FA13C97#32
  | 16 => 0xBA48AC55#32
  | 17 => 0xBFAB18CD#32
  | 18 => 0x3F2AD129#32
  | 19 => 0x3F4B4BFE#32
  | 20 => 0x3FD52490#32
  | 21 => 0x3EE9F0B8#32
  | 22 => 0x3E5072D8#32
  | 23 => 0x3DC9DA70#32
  | 24 => 0x40037F2D#32
  | 25 => 0x3DCD0629#32
  | 26 => 0xBFC6CEFE#32
  | 27 => 0x40A2BB4F#32
  | 28 => 0x3FDD8311#32
  | 29 => 0x3F69683E#32
  | 30 => 0x401B3CCD#32
  | 31 => 0xBFA20E53#32
  | 32 => 0xBF374199#32
  | 33 => 0x3F14C131#32
  | 34 => 0x3E7F6AE5#32
  | 35 => 0x3F8C6BC4#32
  | 36 => 0x3BBDE79A#32
  | 37 => 0x3F45150A#32
  | 38 => 0x3F1F78B6#32
  | 39 => 0xBEE7FA6C#32
  | 40 => 0xBEBEFFD6#32
  | 41 => 0x3EC75674#32
  | 42 => 0x3FE18181#32
  | 43 => 0xBE8830BF#32
  | 44 => 0xBEF3E742#32
  | 45 => 0x3FDF7DF1#32
  | 46 => 0xBF69C058#32
  | 47 => 0x3EEDACA8#32
  | 48 => 0x3F6FBBE1#32
  | 49 => 0x3EF254FA#32
  | 50 => 0x3E93D2E2#32
  | 51 => 0xBEEC0545#32
  | 52 => 0x3F526571#32
  | 53 => 0x3F5E60C0#32
  | 54 => 0x3EE5C0A2#32
  | 55 => 0xBF3E1085#32
  | 56 => 0x3F28640A#32
  | 57 => 0xBFA4EE42#32
  | 58 => 0xBF2394EA#32
  | 59 => 0x3F8C5C8F#32
  | 60 => 0xBD0B395A#32
  | 61 => 0x3E60C04A#32
  | 62 => 0xBF3D621C#32
  | 63 => 0x3F73ADAA#32
  | 64 => 0x3E2E3880#32
  | 65 => 0xBF06D0BA#32
  | 66 => 0x3F1A051E#32
  | 67 => 0xBEA53C63#32
  | 68 => 0xBF5694EB#32
  | 69 => 0x3EBD3D16#32
  | 70 => 0x4022797F#32
  | 71 => 0x4018F71A#32
  | 72 => 0xBF8A98E3#32
  | 73 => 0xBF93D6FA#32
  | 74 => 0xBF741B05#32
  | 75 => 0x3D232E1D#32
  | 76 => 0xBF287A8C#32
  | 77 => 0x3ED9E730#32
  | 78 => 0x3F18B07D#32
  | 79 => 0xBE22BAFF#32
  | 80 => 0xBECF1EB8#32
  | 81 => 0xBF21DF37#32
  | 82 => 0x3FC99A60#32
  | 83 => 0x3FCE90F6#32
  | 84 => 0x3FC08A64#32
  | 85 => 0x40860880#32
  | 86 => 0xBF82A795#32
  | 87 => 0xBF7ABA3C#32
  | 88 => 0xBF580B67#32
  | 89 => 0xBDBE52E4#32
  | 90 => 0x3E2474D2#32
  | 91 => 0x3FE4DD3C#32
  | 92 => 0xBF052F55#32
  | 93 => 0x3F6C6D79#32
  | 94 => 0x3FBA8AC3#32
  | 95 => 0x3F03AEC6#32
  | 96 => 0xBEC53CF0#32
  | 97 => 0x3FA3A448#32
  | 98 => 0x3FE12E5C#32
  | 99 => 0x3F6EB18E#32
  | 100 => 0xBFCEB108#32
  | 101 => 0xBF2A015E#32
  | 102 => 0x401B5BAA#32
  | 103 => 0x40187A98#32
  | 104 => 0xBF01FF7C#32
  | 105 => 0x3FCCA1F0#32
  | 106 => 0x3E2728EE#32
  | 107 => 0xBF387580#32
  | 108 => 0x3F0A584B#32
  | 109 => 0x3EFC71BC#32
  | 110 => 0x3F1D443E#32
  | 111 => 0x3E8AEF55#32
  | 112 => 0x3FBAD1D8#32
  | 113 => 0x3EE3180C#32
  | 114 => 0x3E423AA7#32
  | 115 => 0x4055F76C#32
  | 116 => 0x3E96DAED#32
  | 117 => 0xBF26BE99#32
  | 118 => 0x4018BD1E#32
  | 119 => 0xBE42DADD#32
  | 120 => 0xBC3AD04F#32
  | 121 => 0x3FFB9E88#32
  | 122 => 0x3FE63B90#32
  | 123 => 0x3FACD23D#32
  | 124 => 0x3D7F24DC#32
  | 125 => 0x4008B218#32
  | 126 => 0xBEDB7C4A#32
  | 127 => 0x3E1C5126#32
  | _ => 0#32

noncomputable abbrev lit0t0_2 (i : Nat) : BitVec 32 := match i % 128 with
  | 0 => 0x3F6C5E06#32
  | 1 => 0x3E862226#32
  | 2 => 0x404EC6E8#32
  | 3 => 0xBF871121#32
  | 4 => 0xBF221075#32
  | 5 => 0x404166ED#32
  | 6 => 0x4040EDBA#32
  | 7 => 0x40034580#32
  | 8 => 0xBDEDD102#32
  | 9 => 0x3FB05906#32
  | 10 => 0x3FE2EEEA#32
  | 11 => 0x402ABBA0#32
  | 12 => 0x3F12846C#32
  | 13 => 0x3E9889B5#32
  | 14 => 0x3F13D500#32
  | 15 => 0x3FBC0011#32
  | 16 => 0xBF5D56FB#32
  | 17 => 0x3EB717F4#32
  | 18 => 0x3FA326B4#32
  | 19 => 0xBEB23205#32
  | 20 => 0x3F8EC671#32
  | 21 => 0xBFB8041D#32
  | 22 => 0x4029EA33#32
  | 23 => 0x3F195E53#32
  | 24 => 0x3F10AA7C#32
  | 25 => 0x4007E446#32
  | 26 => 0x3ECF615A#32
  | 27 => 0xBF908A66#32
  | 28 => 0xBEAFD6B7#32
  | 29 => 0x3FD92C82#32
  | 30 => 0x3F02D034#32
  | 31 => 0x404D2DE4#32
  | 32 => 0x40272CC2#32
  | 33 => 0xBF099365#32
  | 34 => 0x40569402#32
  | 35 => 0xBF52419B#32
  | 36 => 0x40539142#32
  | 37 => 0xBF653DD8#32
  | 38 => 0xBEE11B5A#32
  | 39 => 0x3FEBBE42#32
  | 40 => 0x40836195#32
  | 41 => 0xBE86D45E#32
  | 42 => 0xBF21720A#32
  | 43 => 0x404C3F24#32
  | 44 => 0x3E50718B#32
  | 45 => 0xBE851B4F#32
  | 46 => 0x3F972039#32
  | 47 => 0x3FAEB166#32
  | 48 => 0xBF2190F1#32
  | 49 => 0x3F5AAB16#32
  | 50 => 0x3F69F596#32
  | 51 => 0x3DAEB50E#32
  | 52 => 0xBF8B8431#32
  | 53 => 0x3FC8FCA2#32
  | 54 => 0x3C6C4A1A#32
  | 55 => 0x3F8B2250#32
  | 56 => 0xBEB04B90#32
  | 57 => 0xBDA37C30#32
  | 58 => 0x3F21AC51#32
  | 59 => 0x3F386076#32
  | 60 => 0x3EB13CAD#32
  | 61 => 0x3F97113F#32
  | 62 => 0x3F547B5E#32
  | 63 => 0xBC8A345E#32
  | 64 => 0x3F448F1A#32
  | 65 => 0xBEA87644#32
  | 66 => 0xBF197D09#32
  | 67 => 0x3F19AC64#32
  | 68 => 0xBE2F957F#32
  | 69 => 0xBF3CD10C#32
  | 70 => 0x3F3E99A0#32
  | 71 => 0x40023B0B#32
  | 72 => 0x3F98541D#32
  | 73 => 0x3F7F23A7#32
  | 74 => 0x3E2D911C#32
  | 75 => 0xBF98C0E4#32
  | 76 => 0xBE2918CC#32
  | 77 => 0xBE33B006#32
  | 78 => 0xBDBEF2CA#32
  | 79 => 0xBE5B308B#32
  | 80 => 0xBF05F69B#32
  | 81 => 0x40317ED7#32
  | 82 => 0x3EFD14C4#32
  | 83 => 0xBEF78527#32
  | 84 => 0xBD9BB4D4#32
  | 85 => 0x3FB27883#32
  | 86 => 0xBF89FFF3#32
  | 87 => 0x3F9C7D29#32
  | 88 => 0xBF58AC92#32
  | 89 => 0x3FC45F04#32
  | 90 => 0x3CF765C8#32
  | 91 => 0x3F37F6C9#32
  | 92 => 0xBF4CCA66#32
  | 93 => 0xBF14EABF#32
  | 94 => 0x3DD70F34#32
  | 95 => 0xBF189904#32
  | 96 => 0xBE10A80C#32
  | 97 => 0x403803BB#32
  | 98 => 0xBF26D0B5#32
  | 99 => 0x3F676D56#32
  | 100 => 0x40557E14#32
  | 101 => 0x40098148#32
  | 102 => 0x3FB28A47#32
  | 103 => 0x3F22E921#32
  | 104 => 0xBE1A31B6#32
  | 105 => 0xBE5FB8B2#32
  | 106 => 0x3D7D01D6#32
  | 107 => 0x3DE6F3BA#32
  | 108 => 0x3E10997C#32
  | 109 => 0xBEC9647C#32
  | 110 => 0xBF43AD48#32
  | 111 => 0x4005DA73#32
  | 112 => 0x3FE87178#32
  | 113 => 0x3F407ACA#32
  | 114 => 0xBE89624B#32
  | 115 => 0x3F2226EA#32
  | 116 => 0xBF8F7421#32
  | 117 => 0x3FAD1D6A#32
  | 118 => 0xBF302A61#32
  | 119 => 0xBE25DEBE#32
  | 120 => 0xBEBBEB83#32
  | 121 => 0x3F058D3A#32
  | 122 => 0xBF48EE20#32
  | 123 => 0xBF7FE8D2#32
  | 124 => 0x3DD7EC8F#32
  | 125 => 0x3F98A77E#32
  | 126 => 0x3FC32F03#32
  | 127 => 0x3E9DA8DE#32
  | _ => 0#32

noncomputable abbrev lit0t0_3 (i : Nat) : BitVec 32 := match i % 128 with
  | 0 => 0x3EE68235#32
  | 1 => 0xBF2CD0A3#32
  | 2 => 0x3F230553#32
  | 3 => 0x3F97D555#32
  | 4 => 0x40317406#32
  | 5 => 0x3F9A85C5#32
  | 6 => 0xBE273F7F#32
  | 7 => 0x3EA9CF36#32
  | 8 => 0x3FEC52EA#32
  | 9 => 0x3FC69759#32
  | 10 => 0x3FD1241E#32
  | 11 => 0xBEBBDBE1#32
  | 12 => 0xBE94DCA1#32
  | 13 => 0x3F889044#32
  | 14 => 0xBEB3F413#32
  | 15 => 0xBF45E36A#32
  | 16 => 0x3FD0B76A#32
  | 17 => 0xBE9B3107#32
  | 18 => 0xBF78BEA3#32
  | 19 => 0x3F7F7B02#32
  | 20 => 0xBF659850#32
  | 21 => 0x3FA16208#32
  | 22 => 0xBF82C62E#32
  | 23 => 0x3F1DF700#32
  | 24 => 0xBF1BC5F0#32
  | 25 => 0xBF8AFD0E#32
  | 26 => 0xBE50DEFE#32
  | 27 => 0x3F647592#32
  | 28 => 0x3EAF7393#32
  | 29 => 0x40437324#32
  | 30 => 0xBF3FDDB2#32
  | 31 => 0x3D406A12#32
  | 32 => 0xBDA2DD5C#32
  | 33 => 0x3C5745F9#32
  | 34 => 0x3F3BBD06#32
  | 35 => 0xBEE0DAAC#32
  | 36 => 0x3F76B211#32
  | 37 => 0xBFB9FACA#32
  | 38 => 0x3FFEC314#32
  | 39 => 0xBDDE7BCE#32
  | 40 => 0xBF8A3883#32
  | 41 => 0x3FC11D75#32
  | 42 => 0x3F9091CA#32
  | 43 => 0x3ED40A3B#32
  | 44 => 0xBF91D0BA#32
  | 45 => 0xBF1985B5#32
  | 46 => 0xBF2A50EF#32
  | 47 => 0xBEFFBCD3#32
  | 48 => 0xBF9CE95D#32
  | 49 => 0xBF77716F#32
  | 50 => 0xBF45EA65#32
  | 51 => 0xBCEC4BDD#32
  | 52 => 0x3F988E4E#32
  | 53 => 0x3F92FDD4#32
  | 54 => 0xBF44E32E#32
  | 55 => 0xBF6AC03A#32
  | 56 => 0x3F8F2BF0#32
  | 57 => 0x405A77EE#32
  | 58 => 0x3FAE8F6E#32
  | 59 => 0x3DCBD6A4#32
  | 60 => 0x3F01D192#32
  | 61 => 0x3EC0113B#32
  | 62 => 0x3E49E540#32
  | 63 => 0x3E78D501#32
  | 64 => 0xBB9F42C2#32
  | 65 => 0xBF56438E#32
  | 66 => 0xBEAEA25F#32
  | 67 => 0xBEF2161C#32
  | 68 => 0xBF625494#32
  | 69 => 0xBE37827A#32
  | 70 => 0x3FAD9D36#32
  | 71 => 0x3FA137B6#32
  | 72 => 0xBF48E378#32
  | 73 => 0xBF87D49B#32
  | 74 => 0x40320A48#32
  | 75 => 0xBF8BEAB2#32
  | 76 => 0xBF62C7AF#32
  | 77 => 0xBEBAA4BA#32
  | 78 => 0xBF0543D1#32
  | 79 => 0x3F3B8BC3#32
  | 80 => 0x3F9A7DBD#32
  | 81 => 0x3F373525#32
  | 82 => 0x3FAC4486#32
  | 83 => 0x40083DF8#32
  | 84 => 0x3EE8851C#32
  | 85 => 0x3ECE2CBA#32
  | 86 => 0x400F6509#32
  | 87 => 0x3FF91189#32
  | 88 => 0x3F269DFF#32
  | 89 => 0x3FB7666B#32
  | 90 => 0xBFA28767#32
  | 91 => 0x3F6DE0E4#32
  | 92 => 0xBE66A7D6#32
  | 93 => 0x409A56FA#32
  | 94 => 0x3F3D5C5B#32
  | 95 => 0xBED761E0#32
  | 96 => 0xBF4537E4#32
  | 97 => 0xBF8EA73E#32
  | 98 => 0xBEB2EDB4#32
  | 99 => 0xBF356BC9#32
  | 100 => 0x3FAFF0B1#32
  | 101 => 0x3F9E6AA5#32
  | 102 => 0x3FEE320E#32
  | 103 => 0xBF387495#32
  | 104 => 0xBFB9F808#32
  | 105 => 0xBCB09AE5#32
  | 106 => 0x3F0ABDB6#32
  | 107 => 0x3FD73844#32
  | 108 => 0x3F0C01CD#32
  | 109 => 0xBE0C2467#32
  | 110 => 0xBF6C9D64#32
  | 111 => 0xBEAE3E51#32
  | 112 => 0xBDB75468#32
  | 113 => 0x3FB93465#32
  | 114 => 0xBF818D6E#32
  | 115 => 0x3F50CCC5#32
  | 116 => 0x3FBBBC52#32
  | 117 => 0xBE855324#32
  | 118 => 0x3F607AEF#32
  | 119 => 0x3F93713B#32
  | 120 => 0x3F013A11#32
  | 121 => 0x3FA64EF8#32
  | 122 => 0x408D78E5#32
  | 123 => 0x3F55A414#32
  | 124 => 0xBF22498A#32
  | 125 => 0xBF0E214D#32
  | 126 => 0x3FA97BCB#32
  | 127 => 0x3FA2EF4A#32
  | _ => 0#32

noncomputable abbrev lit0t0_4 (i : Nat) : BitVec 32 := match i % 128 with
  | 0 => 0xBF53FAF4#32
  | 1 => 0xBF0EF00E#32
  | 2 => 0x3F9A8485#32
  | 3 => 0x3FBE53D8#32
  | 4 => 0xBF7C3CAE#32
  | 5 => 0x3FBFFD7A#32
  | 6 => 0xBE1A58BE#32
  | 7 => 0x3E1B33AE#32
  | 8 => 0x3F4DBDB0#32
  | 9 => 0x3E32739B#32
  | 10 => 0x406D062A#32
  | 11 => 0x3EAE72B4#32
  | 12 => 0x3F27DC82#32
  | 13 => 0x402C884F#32
  | 14 => 0xBE9F64F2#32
  | 15 => 0x3F143EC8#32
  | 16 => 0x3F6094C8#32
  | 17 => 0x3FA6B162#32
  | 18 => 0x406FC6D4#32
  | 19 => 0xBEC12F22#32
  | 20 => 0x400710DC#32
  | 21 => 0x40063DDB#32
  | 22 => 0xBF945470#32
  | 23 => 0x3F2A293F#32
  | 24 => 0x3D3D4290#32
  | 25 => 0x402D0816#32
  | 26 => 0x3F0A659F#32
  | 27 => 0x4005F291#32
  | 28 => 0x3F0EA5B8#32
  | 29 => 0xBEC6E911#32
  | 30 => 0xBF12B3CE#32
  | 31 => 0xBF0D5FFC#32
  | 32 => 0xBE3952A9#32
  | 33 => 0x40021DAC#32
  | 34 => 0x3F6CC8FE#32
  | 35 => 0x3EB84194#32
  | 36 => 0x3F28D8FC#32
  | 37 => 0x3FAE750B#32
  | 38 => 0xBF129F19#32
  | 39 => 0x4012BF1C#32
  | 40 => 0x3F425E98#32
  | 41 => 0x3FC56A35#32
  | 42 => 0x3FBAFA64#32
  | 43 => 0xBF478897#32
  | 44 => 0x404F1C19#32
  | 45 => 0xBE900BBF#32
  | 46 => 0xBF88BC7B#32
  | 47 => 0x3F4A0918#32
  | 48 => 0xBE826EAB#32
  | 49 => 0x402304FA#32
  | 50 => 0x3F808B8A#32
  | 51 => 0xBE21FB4F#32
  | 52 => 0xBE89CD2F#32
  | 53 => 0x4083E7FC#32
  | 54 => 0x3EE1053C#32
  | 55 => 0x403514EE#32
  | 56 => 0x3F86F4D7#32
  | 57 => 0xBF994266#32
  | 58 => 0xBEC42F82#32
  | 59 => 0x3FC7CA7A#32
  | 60 => 0x3FA96067#32
  | 61 => 0xBF1E3FC4#32
  | 62 => 0x404AEC1C#32
  | 63 => 0x3FE05C02#32
  | 64 => 0xBF73DC09#32
  | 65 => 0x4045C90B#32
  | 66 => 0xBE530DF8#32
  | 67 => 0x40410C7B#32
  | 68 => 0xBF96FA15#32
  | 69 => 0xBE8287CC#32
  | 70 => 0x3F14CDBB#32
  | 71 => 0xBE84A404#32
  | 72 => 0x3EDE3734#32
  | 73 => 0x3F6B06F6#32
  | 74 => 0x3F12DF32#32
  | 75 => 0x3FE9F64E#32
  | 76 => 0xBEFF78FE#32
  | 77 => 0x40394F55#32
  | 78 => 0xBE870495#32
  | 79 => 0x3E959FE1#32
  | 80 => 0x3D7B8A03#32
  | 81 => 0x3EF5CA22#32
  | 82 => 0x3FFF85A6#32
  | 83 => 0x3F17676D#32
  | 84 => 0xBD881D48#32
  | 85 => 0xBF73E9E4#32
  | 86 => 0x3FE1FE5C#32
  | 87 => 0x3EC27CF1#32
  | 88 => 0x3E99FDA3#32
  | 89 => 0xBF4AA7C9#32
  | 90 => 0x3F0863DD#32
  | 91 => 0x409F778A#32
  | 92 => 0xBFA1B9E8#32
  | 93 => 0xBF0DF14E#32
  | 94 => 0x3E9E01FE#32
  | 95 => 0x3F5D694F#32
  | 96 => 0x40150D1C#32
  | 97 => 0x3F077F6C#32
  | 98 => 0x3D30289E#32
  | 99 => 0xBE3DBE72#32
  | 100 => 0x404854FC#32
  | 101 => 0xBF7207A9#32
  | 102 => 0xBE8FA441#32
  | 103 => 0x3F513A54#32
  | 104 => 0xBE31AEB4#32
  | 105 => 0x3FCB4CB7#32
  | 106 => 0x402F4867#32
  | 107 => 0x3E296727#32
  | 108 => 0xBFA04135#32
  | 109 => 0x3E7A524A#32
  | 110 => 0x3FFFB65E#32
  | 111 => 0x3EC6A864#32
  | 112 => 0x3F92CADD#32
  | 113 => 0x3D925A0A#32
  | 114 => 0x40316EAC#32
  | 115 => 0x3FE03311#32
  | 116 => 0x4004B5FB#32
  | 117 => 0x4024ED7D#32
  | 118 => 0xBF8E40D6#32
  | 119 => 0xBF64E9F6#32
  | 120 => 0x3FC5688E#32
  | 121 => 0xBFC7A738#32
  | 122 => 0x3EB3F26E#32
  | 123 => 0x3FD33F4C#32
  | 124 => 0xBC82C16E#32
  | 125 => 0x40084F36#32
  | 126 => 0xBF75C45A#32
  | 127 => 0x402F5E0B#32
  | _ => 0#32

noncomputable abbrev lit0t0_5 (i : Nat) : BitVec 32 := match i % 128 with
  | 0 => 0x4084CEDA#32
  | 1 => 0x3FF04029#32
  | 2 => 0x40159F8A#32
  | 3 => 0x3FC443AC#32
  | 4 => 0x3E004BA2#32
  | 5 => 0xBEE37CA3#32
  | 6 => 0x3F088066#32
  | 7 => 0xBE9D5068#32
  | 8 => 0xBE1F7C81#32
  | 9 => 0x4098B80C#32
  | 10 => 0x3EA3D62F#32
  | 11 => 0xBF559615#32
  | 12 => 0x3FD675FC#32
  | 13 => 0x3FB87349#32
  | 14 => 0x3F77687A#32
  | 15 => 0xBF2D0736#32
  | 16 => 0x3E8C760C#32
  | 17 => 0x3F21AF38#32
  | 18 => 0x40396F41#32
  | 19 => 0xBF8BBC3A#32
  | 20 => 0x3F70C4C6#32
  | 21 => 0x3E693770#32
  | 22 => 0xBF689A83#32
  | 23 => 0x404F99DB#32
  | 24 => 0x3F071106#32
  | 25 => 0x3F13FE13#32
  | 26 => 0xBCA092BC#32
  | 27 => 0x3FB442E5#32
  | 28 => 0x3C5E20FE#32
  | 29 => 0xBF6B57F1#32
  | 30 => 0x3E7BCEBA#32
  | 31 => 0x3FF0B9DA#32
  | 32 => 0xBEE666B8#32
  | 33 => 0x3F269E72#32
  | 34 => 0x3E716AAE#32
  | 35 => 0x3EF242F8#32
  | 36 => 0x3F8AFAF4#32
  | 37 => 0x3E3D922F#32
  | 38 => 0x3EC8450E#32
  | 39 => 0x3E652A9D#32
  | 40 => 0x3F87658E#32
  | 41 => 0xBFE42616#32
  | 42 => 0xBF4DA5B2#32
  | 43 => 0xBEE244CD#32
  | 44 => 0x401489A6#32
  | 45 => 0x3F970B98#32
  | 46 => 0xBF4AA216#32
  | 47 => 0x400F99A5#32
  | 48 => 0xBF0CC8A7#32
  | 49 => 0xBE177E00#32
  | 50 => 0xBE994EA6#32
  | 51 => 0x4004BF52#32
  | 52 => 0x40262BC9#32
  | 53 => 0xBF5949C4#32
  | 54 => 0xBEE3A424#32
  | 55 => 0x3FD30F2D#32
  | 56 => 0x3F39B319#32
  | 57 => 0x3FABE5BE#32
  | 58 => 0xBEAE8222#32
  | 59 => 0x40085143#32
  | 60 => 0x3FADB951#32
  | 61 => 0xBFCE45B4#32
  | 62 => 0x3F196F22#32
  | 63 => 0xBE95B9A5#32
  | 64 => 0x3F778356#32
  | 65 => 0xBDFACC60#32
  | 66 => 0x3EE16B47#32
  | 67 => 0x3F6FAFB4#32
  | 68 => 0x3F979A78#32
  | 69 => 0xBE86CC8F#32
  | 70 => 0x3E285A2D#32
  | 71 => 0xBF48E85A#32
  | 72 => 0x3F07855E#32
  | 73 => 0xBE3DEF54#32
  | 74 => 0x3FDFF257#32
  | 75 => 0x3F05845D#32
  | 76 => 0xBF865E6C#32
  | 77 => 0xBFBBD51E#32
  | 78 => 0x405E5475#32
  | 79 => 0x3FAB77D0#32
  | 80 => 0xBDF71A75#32
  | 81 => 0x403F7402#32
  | 82 => 0xBE404326#32
  | 83 => 0x3FB99C9B#32
  | 84 => 0x4055D342#32
  | 85 => 0x3F942081#32
  | 86 => 0x3F8B7E33#32
  | 87 => 0xBDF548A5#32
  | 88 => 0xBF6EC05C#32
  | 89 => 0xBE2E07FD#32
  | 90 => 0x3FF75488#32
  | 91 => 0xBF2A1C1D#32
  | 92 => 0xBD0B0E37#32
  | 93 => 0xBE8A011D#32
  | 94 => 0x4081BD23#32
  | 95 => 0x3F9B85AD#32
  | 96 => 0x3F8A4FDD#32
  | 97 => 0xBEB3A7CE#32
  | 98 => 0x3FB7380A#32
  | 99 => 0x405B3F9F#32
  | 100 => 0x3E25130B#32
  | 101 => 0x406089FC#32
  | 102 => 0xBF85320D#32
  | 103 => 0xBD402BED#32
  | 104 => 0x3E6B48C5#32
  | 105 => 0x3DDC4DE0#32
  | 106 => 0x3FE29298#32
  | 107 => 0xBF00627C#32
  | 108 => 0x3EE81CEE#32
  | 109 => 0xBEB427C2#32
  | 110 => 0x3E5E6901#32
  | 111 => 0x3F01D655#32
  | 112 => 0x4000E4E1#32
  | 113 => 0x3F014EB0#32
  | 114 => 0x3F531496#32
  | 115 => 0x40342816#32
  | 116 => 0x3F09F6A8#32
  | 117 => 0xBD963139#32
  | 118 => 0x3F6355EE#32
  | 119 => 0xBEBC467C#32
  | 120 => 0x3CD5555B#32
  | 121 => 0x3F4404E2#32
  | 122 => 0xBEE023F0#32
  | 123 => 0xBF278C5F#32
  | 124 => 0xBEF3857D#32
  | 125 => 0x3F8EE28E#32
  | 126 => 0xBF30B775#32
  | 127 => 0x3E0B6709#32
  | _ => 0#32

noncomputable abbrev lit0t0_6 (i : Nat) : BitVec 32 := match i % 128 with
  | 0 => 0x3FB36101#32
  | 1 => 0x3F0DEE05#32
  | 2 => 0xBEB2BF06#32
  | 3 => 0x3F48D507#32
  | 4 => 0x3F5EB5B0#32
  | 5 => 0x3FE4DACE#32
  | 6 => 0x3F3A32C6#32
  | 7 => 0x3FF24EAC#32
  | 8 => 0x3FEE4AF2#32
  | 9 => 0x3F88588F#32
  | 10 => 0xBE4AF375#32
  | 11 => 0x3F4CE7AB#32
  | 12 => 0xBE92DD89#32
  | 13 => 0x3F371200#32
  | 14 => 0x40065EDC#32
  | 15 => 0x3F315554#32
  | 16 => 0x3ED5A153#32
  | 17 => 0xBD85C95F#32
  | 18 => 0x400B25C9#32
  | 19 => 0xBFBD68DE#32
  | 20 => 0xBEC335F4#32
  | 21 => 0x3F5CA644#32
  | 22 => 0xBD7D6711#32
  | 23 => 0x40294165#32
  | 24 => 0x3F0171FB#32
  | 25 => 0x4083D15C#32
  | 26 => 0x3F324D19#32
  | 27 => 0xBFB19090#32
  | 28 => 0x3E8B9EE8#32
  | 29 => 0xBF161589#32
  | 30 => 0x3EEC7488#32
  | 31 => 0x3F9700BE#32
  | 32 => 0xBF8E6947#32
  | 33 => 0x3FA6414B#32
  | 34 => 0x3F2FEDF5#32
  | 35 => 0x3F583698#32
  | 36 => 0x3F947339#32
  | 37 => 0x3EA3503A#32
  | 38 => 0x40098591#32
  | 39 => 0x401703FD#32
  | 40 => 0x3D7C7BAF#32
  | 41 => 0x3DF21E4F#32
  | 42 => 0x3FB22342#32
  | 43 => 0x3EAE3921#32
  | 44 => 0x3E8EEC52#32
  | 45 => 0x3E2C9D19#32
  | 46 => 0x3FD17BE4#32
  | 47 => 0xBF88DE8D#32
  | 48 => 0x3E5B15C7#32
  | 49 => 0x3F4A5D88#32
  | 50 => 0x3DD14825#32
  | 51 => 0xBE11DF3D#32
  | 52 => 0xBDB14DB5#32
  | 53 => 0x3F2F3C27#32
  | 54 => 0x3FA4F9E4#32
  | 55 => 0x404B0F09#32
  | 56 => 0x3DDA99B6#32
  | 57 => 0x3F095966#32
  | 58 => 0xBF5134C0#32
  | 59 => 0x402F0F5A#32
  | 60 => 0x403143B8#32
  | 61 => 0x3FE270DB#32
  | 62 => 0xBDC2E0BD#32
  | 63 => 0x3F98572D#32
  | 64 => 0x3FEA355D#32
  | 65 => 0x3FEA9BF0#32
  | 66 => 0x400DE583#32
  | 67 => 0x402EAB40#32
  | 68 => 0xBF6BAB33#32
  | 69 => 0x4021B3B0#32
  | 70 => 0x3EBDA2F3#32
  | 71 => 0xBEB50B14#32
  | 72 => 0x4005C3B9#32
  | 73 => 0x3FE05600#32
  | 74 => 0x3E922088#32
  | 75 => 0x403DF9A9#32
  | 76 => 0xBF01F94A#32
  | 77 => 0x3F9F69EB#32
  | 78 => 0x400A3C0B#32
  | 79 => 0x3D6811A9#32
  | 80 => 0x4024EDD2#32
  | 81 => 0xBE8A21F4#32
  | 82 => 0x4023A2C7#32
  | 83 => 0x3FD170A7#32
  | 84 => 0xBE3285FE#32
  | 85 => 0x4086DF7F#32
  | 86 => 0xBF19C92F#32
  | 87 => 0x3FD8A41F#32
  | 88 => 0x40186A61#32
  | 89 => 0x3DE6A493#32
  | 90 => 0x3E34EA42#32
  | 91 => 0xBE8231A4#32
  | 92 => 0x3F4CB77D#32
  | 93 => 0xBD9F6DBF#32
  | 94 => 0x3E4D1D3A#32
  | 95 => 0x4020B49F#32
  | 96 => 0x400CB245#32
  | 97 => 0xBF196667#32
  | 98 => 0x3FF68EBC#32
  | 99 => 0x3F48F4FE#32
  | 100 => 0x3FBCBAB2#32
  | 101 => 0x3F0020FB#32
  | 102 => 0x3FCAFF37#32
  | 103 => 0x3DCF7EE0#32
  | 104 => 0x3F83BED2#32
  | 105 => 0x3F62E5BC#32
  | 106 => 0x40010791#32
  | 107 => 0xBF2E1840#32
  | 108 => 0x3F146EF0#32
  | 109 => 0x40366A72#32
  | 110 => 0x3FC42A1F#32
  | 111 => 0x4018B870#32
  | 112 => 0xBF536360#32
  | 113 => 0x4079C1DE#32
  | 114 => 0xBEBDCBD0#32
  | 115 => 0xBE6F11A1#32
  | 116 => 0xBFF00200#32
  | 117 => 0x3FC2C14B#32
  | 118 => 0xBE1CA7B4#32
  | 119 => 0x3FA9F7EF#32
  | 120 => 0x3FD1E6AC#32
  | 121 => 0xBF66E513#32
  | 122 => 0x3F17D86D#32
  | 123 => 0x3F3E9B52#32
  | 124 => 0x404366FE#32
  | 125 => 0x3DCE215D#32
  | 126 => 0xBF1E422A#32
  | 127 => 0x3FC4141B#32
  | _ => 0#32

noncomputable abbrev lit0t0_7 (i : Nat) : BitVec 32 := match i % 128 with
  | 0 => 0xBDDFD336#32
  | 1 => 0x3FA13B88#32
  | 2 => 0x3F61BDB4#32
  | 3 => 0x3F3C52EB#32
  | 4 => 0xBF919342#32
  | 5 => 0x3E0E8B85#32
  | 6 => 0x3E8CD36E#32
  | 7 => 0x3F896892#32
  | 8 => 0x3F2E361D#32
  | 9 => 0x3D98E49C#32
  | 10 => 0x3FC0A4D0#32
  | 11 => 0x3FA2FC8D#32
  | 12 => 0x3EA14146#32
  | 13 => 0x3F1CA021#32
  | 14 => 0x3EA5DB44#32
  | 15 => 0x3F9962F3#32
  | 16 => 0x3EDE263C#32
  | 17 => 0xBF6876D0#32
  | 18 => 0xBEEF09A5#32
  | 19 => 0x3F901F8C#32
  | 20 => 0xBEC3A142#32
  | 21 => 0xBE451410#32
  | 22 => 0x3FAD85F2#32
  | 23 => 0xBF9E1ECC#32
  | 24 => 0x3E25AD6D#32
  | 25 => 0x3F401896#32
  | 26 => 0x3F5FCC2E#32
  | 27 => 0x3DDFD489#32
  | 28 => 0x402C2163#32
  | 29 => 0x3EDE477B#32
  | 30 => 0xBE86BDF5#32
  | 31 => 0xBF695FFC#32
  | 32 => 0x3FEF3B11#32
  | 33 => 0x3FD79F2B#32
  | 34 => 0xBEC431D2#32
  | 35 => 0x3FDE9CEC#32
  | 36 => 0x3F2D3217#32
  | 37 => 0x3F219A09#32
  | 38 => 0x3D2AF127#32
  | 39 => 0xBF59524F#32
  | 40 => 0x3FCB16F7#32
  | 41 => 0xBF880C36#32
  | 42 => 0xBF59EEF6#32
  | 43 => 0x3FF04C2D#32
  | 44 => 0x3F819D6C#32
  | 45 => 0x3F30D902#32
  | 46 => 0x3F17596A#32
  | 47 => 0xBF8D37C1#32
  | 48 => 0xBF03AB84#32
  | 49 => 0x3F9D1FD0#32
  | 50 => 0xBF02C42A#32
  | 51 => 0x3FC19839#32
  | 52 => 0xBEEF859C#32
  | 53 => 0x3F9E4AE8#32
  | 54 => 0x3FBA6667#32
  | 55 => 0xBEE1B910#32
  | 56 => 0xBFAFA2E2#32
  | 57 => 0x3FF6D731#32
  | 58 => 0x3F8B3C6E#32
  | 59 => 0xBE8D9AB0#32
  | 60 => 0x3F25B0F3#32
  | 61 => 0xBECF8BB1#32
  | 62 => 0xBC942DD8#32
  | 63 => 0x3EFA1E96#32
  | 64 => 0x400ABA08#32
  | 65 => 0x3FEDA206#32
  | 66 => 0x3F3EE7DD#32
  | 67 => 0x3F8C9548#32
  | 68 => 0xBFAC52F2#32
  | 69 => 0xBBDDEB30#32
  | 70 => 0x3F4B4301#32
  | 71 => 0xBF7E5DFB#32
  | 72 => 0x3DA08167#32
  | 73 => 0x4073E09A#32
  | 74 => 0xBF86789A#32
  | 75 => 0x3E98E365#32
  | 76 => 0x3F197B2D#32
  | 77 => 0xBDF8824C#32
  | 78 => 0xBEB2EA11#32
  | 79 => 0x3F6CE5A4#32
  | 80 => 0x3F5D7AF2#32
  | 81 => 0x3E9F05FF#32
  | 82 => 0x3F17EC08#32
  | 83 => 0x3F62B14F#32
  | 84 => 0x3F839264#32
  | 85 => 0x3FAF1513#32
  | 86 => 0x3EE31CA0#32
  | 87 => 0x408B8871#32
  | 88 => 0x3FC17EE8#32
  | 89 => 0x4022A489#32
  | 90 => 0x3F8D0EA1#32
  | 91 => 0x401F86F9#32
  | 92 => 0x3FEB4928#32
  | 93 => 0x3CF5A59F#32
  | 94 => 0xBF017A32#32
  | 95 => 0xBF421ABD#32
  | 96 => 0x3F8C25BA#32
  | 97 => 0x3ED8830E#32
  | 98 => 0x4005493E#32
  | 99 => 0xBFCFBFCC#32
  | 100 => 0x3EB3E3CB#32
  | 101 => 0xBE05ADCA#32
  | 102 => 0x4039B23D#32
  | 103 => 0xBB90CBFB#32
  | 104 => 0x3FA25B50#32
  | 105 => 0x3F6DDC41#32
  | 106 => 0x3FAC0B5E#32
  | 107 => 0xBDC82BAC#32
  | 108 => 0xBE5196B2#32
  | 109 => 0x3F3ED412#32
  | 110 => 0x409EDC25#32
  | 111 => 0x40376E34#32
  | 112 => 0xBF84290E#32
  | 113 => 0x3DE0AFC7#32
  | 114 => 0x3FCDA18E#32
  | 115 => 0x3F950330#32
  | 116 => 0xBFBA84D4#32
  | 117 => 0xBFB31F92#32
  | 118 => 0x400B9A2B#32
  | 119 => 0xBF298D8B#32
  | 120 => 0x3ED27FEA#32
  | 121 => 0x3FA9F8FE#32
  | 122 => 0x3F9F7F0F#32
  | 123 => 0x3ED68F09#32
  | 124 => 0xBF324E21#32
  | 125 => 0x4099A683#32
  | 126 => 0x3FC0E058#32
  | 127 => 0xBF8CE741#32
  | _ => 0#32

noncomputable abbrev lit0t0_8 (i : Nat) : BitVec 32 := match i % 128 with
  | 0 => 0xBF54FB69#32
  | 1 => 0x3FE4DD4A#32
  | 2 => 0x3F1C30B8#32
  | 3 => 0x3F9D8E75#32
  | 4 => 0x400EB3B7#32
  | 5 => 0x3F21DA9B#32
  | 6 => 0xBE3B5859#32
  | 7 => 0xBF937806#32
  | 8 => 0x3D449476#32
  | 9 => 0xBF764296#32
  | 10 => 0xBF98CCF2#32
  | 11 => 0xBF42D774#32
  | 12 => 0x3F8286FF#32
  | 13 => 0xBF42266D#32
  | 14 => 0x3C188C3E#32
  | 15 => 0xBE9E15E4#32
  | 16 => 0x3FA6567F#32
  | 17 => 0xBEBDA159#32
  | 18 => 0x3F01167A#32
  | 19 => 0x3E58E69A#32
  | 20 => 0x4093CE14#32
  | 21 => 0x3DDC5D6D#32
  | 22 => 0x3FB5734C#32
  | 23 => 0xBE381006#32
  | 24 => 0xBE7E3015#32
  | 25 => 0x3FDEA2D5#32
  | 26 => 0xBE29EA10#32
  | 27 => 0xBFBA2BAD#32
  | 28 => 0x3E95159B#32
  | 29 => 0xBF941E12#32
  | 30 => 0x3FEDB2EC#32
  | 31 => 0x3FB1DCD9#32
  | 32 => 0x3F622CEC#32
  | 33 => 0xBFAC4F94#32
  | 34 => 0xBEDF12D4#32
  | 35 => 0x3E9055AF#32
  | 36 => 0x3F900405#32
  | 37 => 0xBED08B39#32
  | 38 => 0xBEAEF77C#32
  | 39 => 0xBE495DA0#32
  | 40 => 0x3F9254B5#32
  | 41 => 0xBF6BABD1#32
  | 42 => 0x4080DAE1#32
  | 43 => 0x3F36FF3E#32
  | 44 => 0x3FF38E15#32
  | 45 => 0xBFB72B81#32
  | 46 => 0xBF8800CC#32
  | 47 => 0x3FB61411#32
  | 48 => 0x3F64C957#32
  | 49 => 0xBF011C84#32
  | 50 => 0x3F376E03#32
  | 51 => 0xBE976E3B#32
  | 52 => 0xBF9B2090#32
  | 53 => 0x3F2015DE#32
  | 54 => 0x3FE10943#32
  | 55 => 0x401038B6#32
  | 56 => 0xBE8A8686#32
  | 57 => 0x3F78963A#32
  | 58 => 0xBEA9A9B7#32
  | 59 => 0x3E3B3CD4#32
  | 60 => 0xBE093783#32
  | 61 => 0x3F582751#32
  | 62 => 0x3EDA6E12#32
  | 63 => 0x4026E65A#32
  | 64 => 0x3FA1403B#32
  | 65 => 0x3E593084#32
  | 66 => 0x3F95F498#32
  | 67 => 0xBF6D8B9A#32
  | 68 => 0xBA6DA46A#32
  | 69 => 0xBEFEA86E#32
  | 70 => 0xBED48DC1#32
  | 71 => 0xBF242986#32
  | 72 => 0x405B758E#32
  | 73 => 0xBE202BF5#32
  | 74 => 0xBF252BFD#32
  | 75 => 0xBF096C7B#32
  | 76 => 0xBD294F77#32
  | 77 => 0xBECEDD68#32
  | 78 => 0x3EBBFAFE#32
  | 79 => 0xBF0A40F4#32
  | 80 => 0x3FD68DBE#32
  | 81 => 0x3CE4FAEB#32
  | 82 => 0x3FB756A6#32
  | 83 => 0x4008BD39#32
  | 84 => 0x3F48DCE2#32
  | 85 => 0x3F5C130E#32
  | 86 => 0x3FAD66FF#32
  | 87 => 0xBEBB9DF3#32
  | 88 => 0x3E7CB221#32
  | 89 => 0x4023B2C2#32
  | 90 => 0xBF1AFDDF#32
  | 91 => 0xBF124FEA#32
  | 92 => 0x40036FB1#32
  | 93 => 0x3FA45BCF#32
  | 94 => 0x3FA3D107#32
  | 95 => 0x3FA202BC#32
  | 96 => 0xBF49E9CA#32
  | 97 => 0x3EF6B65E#32
  | 98 => 0xBF751326#32
  | 99 => 0xBF85B568#32
  | 100 => 0x401A2446#32
  | 101 => 0xBF176734#32
  | 102 => 0x3E528C2F#32
  | 103 => 0x404B8EE8#32
  | 104 => 0x3FFF05F6#32
  | 105 => 0x3FBD2986#32
  | 106 => 0x3F104F71#32
  | 107 => 0xBF74AE3E#32
  | 108 => 0xBE7264EC#32
  | 109 => 0x401D8E0C#32
  | 110 => 0x3FCA09AE#32
  | 111 => 0x3FB0C216#32
  | 112 => 0xBE8A06FC#32
  | 113 => 0x3F4FFC53#32
  | 114 => 0xBF8691B2#32
  | 115 => 0x3FFA8F5A#32
  | 116 => 0x3F940EE4#32
  | 117 => 0x3EB139B7#32
  | 118 => 0x4004AD7A#32
  | 119 => 0xBF05DBE1#32
  | 120 => 0xBFCC9560#32
  | 121 => 0xBF34EEBB#32
  | 122 => 0x3F306209#32
  | 123 => 0xBE711EE6#32
  | 124 => 0xBF09E739#32
  | 125 => 0x40918329#32
  | 126 => 0xBE9BD627#32
  | 127 => 0x40033F49#32
  | _ => 0#32

noncomputable abbrev lit0t0_9 (i : Nat) : BitVec 32 := match i % 128 with
  | 0 => 0xBE8613CE#32
  | 1 => 0x3E8037B7#32
  | 2 => 0x3FA4D333#32
  | 3 => 0x400DD829#32
  | 4 => 0xBF3F0B2D#32
  | 5 => 0x3FC59942#32
  | 6 => 0x3FD2E08A#32
  | 7 => 0x3DFBD3CA#32
  | 8 => 0x3D7F894E#32
  | 9 => 0x3FC3BCF9#32
  | 10 => 0xBF1D4F36#32
  | 11 => 0xBF9482A3#32
  | 12 => 0x3FAEF5F0#32
  | 13 => 0xBF77A7CB#32
  | 14 => 0x3F9E4116#32
  | 15 => 0xBD3FBCA5#32
  | 16 => 0xBF3B878C#32
  | 17 => 0x3EF58731#32
  | 18 => 0x3F99D3AD#32
  | 19 => 0x3FC72F0A#32
  | 20 => 0xBF498B0A#32
  | 21 => 0x3F11DB34#32
  | 22 => 0x3F7A5DB9#32
  | 23 => 0x3F9FF62D#32
  | 24 => 0xBF470BE8#32
  | 25 => 0x3F2DCFE0#32
  | 26 => 0x3F8B3318#32
  | 27 => 0xBE8DCBEA#32
  | 28 => 0x3DE447DA#32
  | 29 => 0x3FF98AE1#32
  | 30 => 0x3EC6482D#32
  | 31 => 0x3F948062#32
  | 32 => 0xBFBBE555#32
  | 33 => 0x4038B486#32
  | 34 => 0x3EBB9807#32
  | 35 => 0x3F1EF00E#32
  | 36 => 0xBF0D9738#32
  | 37 => 0xBF9C9A53#32
  | 38 => 0x3DAF5D2C#32
  | 39 => 0x402A677F#32
  | 40 => 0x3C542AEB#32
  | 41 => 0xBDAB7CDB#32
  | 42 => 0x3EC5E097#32
  | 43 => 0xBEDFE192#32
  | 44 => 0xBE9E699A#32
  | 45 => 0x3F1BAA74#32
  | 46 => 0x3FE440F6#32
  | 47 => 0xBEDD3905#32
  | 48 => 0x3F045028#32
  | 49 => 0x4013D160#32
  | 50 => 0x3F0706A1#32
  | 51 => 0x40C4BD9D#32
  | 52 => 0x3E78410F#32
  | 53 => 0xBEEB1ED8#32
  | 54 => 0xBFB0C244#32
  | 55 => 0x3FE36FC8#32
  | 56 => 0x3EB7C0F5#32
  | 57 => 0x3EA20872#32
  | 58 => 0x4003D47F#32
  | 59 => 0xBF32A261#32
  | 60 => 0x3EE7261C#32
  | 61 => 0xBF8EBAAC#32
  | 62 => 0x3F7F7380#32
  | 63 => 0x3F95A4FF#32
  | 64 => 0x3FBC3FA4#32
  | 65 => 0x3FDC3BFE#32
  | 66 => 0x40941833#32
  | 67 => 0xBF894C74#32
  | 68 => 0xBE5D4153#32
  | 69 => 0x3F51C31F#32
  | 70 => 0x3EE5D6D6#32
  | 71 => 0xBE4E807E#32
  | 72 => 0xBF13D839#32
  | 73 => 0x4020640C#32
  | 74 => 0x3F074E30#32
  | 75 => 0xBFA9B8EB#32
  | 76 => 0x3F589F33#32
  | 77 => 0xBE1E78B3#32
  | 78 => 0x3FD34878#32
  | 79 => 0xBE93FCAC#32
  | 80 => 0x400EEEF5#32
  | 81 => 0x3F40ECCD#32
  | 82 => 0x40903685#32
  | 83 => 0xBF86081D#32
  | 84 => 0xBF822638#32
  | 85 => 0x3ECCC526#32
  | 86 => 0xBC48F438#32
  | 87 => 0xBF4A8478#32
  | 88 => 0xBF4AD730#32
  | 89 => 0x3FA599F3#32
  | 90 => 0x408E1F3A#32
  | 91 => 0x3FCC4B6A#32
  | 92 => 0x3E4EBD31#32
  | 93 => 0x3F9FBA09#32
  | 94 => 0x3E8C6A93#32
  | 95 => 0x4024B930#32
  | 96 => 0x3F5AC094#32
  | 97 => 0xBC5C2430#32
  | 98 => 0x3FEDEC70#32
  | 99 => 0x4042A6FA#32
  | 100 => 0x3F2C147D#32
  | 101 => 0x403805AC#32
  | 102 => 0xBFA34A9D#32
  | 103 => 0x3FBCA544#32
  | 104 => 0x3FC5EF02#32
  | 105 => 0x3FB5490B#32
  | 106 => 0xBF0937D6#32
  | 107 => 0x3FADEBFE#32
  | 108 => 0xBCCE1222#32
  | 109 => 0x3F814BD3#32
  | 110 => 0x3DCBF60E#32
  | 111 => 0x3F97A468#32
  | 112 => 0x3EA01DAD#32
  | 113 => 0x3F2F77B4#32
  | 114 => 0xBEB83857#32
  | 115 => 0x3E1C707E#32
  | 116 => 0x3FA81D90#32
  | 117 => 0xBD0D67A4#32
  | 118 => 0x402E55B2#32
  | 119 => 0xBEB26C69#32
  | 120 => 0xBE18110A#32
  | 121 => 0xBF7D5200#32
  | 122 => 0x3F05F578#32
  | 123 => 0x3F83A35E#32
  | 124 => 0x3D5BB540#32
  | 125 => 0xBEC1A7CB#32
  | 126 => 0x3F050E20#32
  | 127 => 0x3F79772A#32
  | _ => 0#32

noncomputable abbrev lit0t0_10 (i : Nat) : BitVec 32 := match i % 128 with
  | 0 => 0x3EDF8AF8#32
  | 1 => 0x3E276CE4#32
  | 2 => 0x403C49CF#32
  | 3 => 0x3EE9ACC4#32
  | 4 => 0x3F2C23C9#32
  | 5 => 0xBF6DE7FE#32
  | 6 => 0xBF77771D#32
  | 7 => 0xBFB154A2#32
  | 8 => 0xBFA43E90#32
  | 9 => 0xBE811474#32
  | 10 => 0x3E9FC7A5#32
  | 11 => 0xBF804DFC#32
  | 12 => 0x4022A731#32
  | 13 => 0x4004B015#32
  | 14 => 0x3E93C886#32
  | 15 => 0x3EBC1FD8#32
  | 16 => 0x3E7041C5#32
  | 17 => 0x407DF693#32
  | 18 => 0xBF80CBF6#32
  | 19 => 0x3F848A97#32
  | 20 => 0x3F6484DB#32
  | 21 => 0x3DF36FEC#32
  | 22 => 0x3E82AEF4#32
  | 23 => 0xBDE5F80F#32
  | 24 => 0x403EDB46#32
  | 25 => 0x40015B0A#32
  | 26 => 0x3FC01261#32
  | 27 => 0x402B779F#32
  | 28 => 0x3F522041#32
  | 29 => 0xBE54651F#32
  | 30 => 0x3F06C2CF#32
  | 31 => 0x3EDF2C04#32
  | 32 => 0x3F205448#32
  | 33 => 0x408B86F9#32
  | 34 => 0xBFC968B6#32
  | 35 => 0x3FEF2396#32
  | 36 => 0xBDF70016#32
  | 37 => 0x3EAB4606#32
  | 38 => 0xBBAB2C58#32
  | 39 => 0xBF7F9642#32
  | 40 => 0x3F64F316#32
  | 41 => 0xBFAEB397#32
  | 42 => 0x3FEB38A3#32
  | 43 => 0x3F5B5910#32
  | 44 => 0xBF7E9A16#32
  | 45 => 0x405E9199#32
  | 46 => 0x3FABB6B3#32
  | 47 => 0x3DD74872#32
  | 48 => 0xBD54B91A#32
  | 49 => 0xBFB0873D#32
  | 50 => 0x3EC220EB#32
  | 51 => 0x3E7325E4#32
  | 52 => 0x3F068167#32
  | 53 => 0x3D4B5A11#32
  | 54 => 0x3FE1CD77#32
  | 55 => 0xBF205C31#32
  | 56 => 0x3F474380#32
  | 57 => 0xBDF499BD#32
  | 58 => 0x3F967846#32
  | 59 => 0x3FB5F6EC#32
  | 60 => 0x3F48AAB8#32
  | 61 => 0x3FCD5149#32
  | 62 => 0xBFD6E495#32
  | 63 => 0xBF3DC574#32
  | 64 => 0xBDD481B9#32
  | 65 => 0x3EA1344D#32
  | 66 => 0xBF081DCE#32
  | 67 => 0x3FE1ECF9#32
  | 68 => 0xBF72401C#32
  | 69 => 0xBE362DE7#32
  | 70 => 0x40297CC6#32
  | 71 => 0x3E3C2DC7#32
  | 72 => 0x3F1FB6F5#32
  | 73 => 0xBF1D41B0#32
  | 74 => 0x3F89EF28#32
  | 75 => 0xBEEE19C8#32
  | 76 => 0xBEAB14EC#32
  | 77 => 0x3FA2C6B4#32
  | 78 => 0xBF788B58#32
  | 79 => 0xBD7C4981#32
  | 80 => 0x3F86D46E#32
  | 81 => 0x3E66D940#32
  | 82 => 0x3EFB459F#32
  | 83 => 0xBF7C7CE0#32
  | 84 => 0x3F975ADD#32
  | 85 => 0x3F30CAA1#32
  | 86 => 0x400A5CE0#32
  | 87 => 0x3F4ED680#32
  | 88 => 0x4001B019#32
  | 89 => 0x3F63FF65#32
  | 90 => 0x3E67BD7D#32
  | 91 => 0x3A6E53BA#32
  | 92 => 0xBF902CE0#32
  | 93 => 0xBDD7FCE2#32
  | 94 => 0xBE3AFCB2#32
  | 95 => 0xBEA70010#32
  | 96 => 0x3F8C08DC#32
  | 97 => 0x406882FC#32
  | 98 => 0x3FF17A26#32
  | 99 => 0xBE2410A4#32
  | 100 => 0x3FD9CA0C#32
  | 101 => 0xBECF4F2A#32
  | 102 => 0x3F36A31A#32
  | 103 => 0xBE90A196#32
  | 104 => 0x400C3100#32
  | 105 => 0x3FA1798A#32
  | 106 => 0xBF412F01#32
  | 107 => 0xBECE3D1C#32
  | 108 => 0xBE1D9727#32
  | 109 => 0xBEEF9EFA#32
  | 110 => 0xBF18B9C6#32
  | 111 => 0xBFD96468#32
  | 112 => 0x3E7104CC#32
  | 113 => 0xBF2F5840#32
  | 114 => 0xBF2A3BEC#32
  | 115 => 0xBF6FF0B1#32
  | 116 => 0xBEAF50C3#32
  | 117 => 0xBEAE7940#32
  | 118 => 0x3F117541#32
  | 119 => 0xBF9440A3#32
  | 120 => 0x3FC8777B#32
  | 121 => 0xBE5B12D9#32
  | 122 => 0x40ED6957#32
  | 123 => 0x402A323D#32
  | 124 => 0x3F93ECDA#32
  | 125 => 0x3E47DD00#32
  | 126 => 0x3EB39818#32
  | 127 => 0x403DDD46#32
  | _ => 0#32

noncomputable abbrev lit0t0_11 (i : Nat) : BitVec 32 := match i % 128 with
  | 0 => 0x407044B5#32
  | 1 => 0xBF2681FA#32
  | 2 => 0xBF7909D6#32
  | 3 => 0x401CA2D0#32
  | 4 => 0xBF31969B#32
  | 5 => 0xBF43C76C#32
  | 6 => 0xBFA41A6D#32
  | 7 => 0xBDA29207#32
  | 8 => 0xBCF3EFEE#32
  | 9 => 0x3FE73C0D#32
  | 10 => 0x3ECAE09C#32
  | 11 => 0xBEE2DD56#32
  | 12 => 0xBFDBA3D7#32
  | 13 => 0x3EB02763#32
  | 14 => 0x3D965A3B#32
  | 15 => 0x3F0E7DA1#32
  | 16 => 0xBF0E566D#32
  | 17 => 0x3F9B9B2F#32
  | 18 => 0x3FC735B8#32
  | 19 => 0xBF4B21D9#32
  | 20 => 0xBFA8AAF0#32
  | 21 => 0x3B88DE13#32
  | 22 => 0x3F945AC4#32
  | 23 => 0x3EFF9D76#32
  | 24 => 0x3FC09BBD#32
  | 25 => 0xBF244E5A#32
  | 26 => 0xBF41F759#32
  | 27 => 0xBDDF8158#32
  | 28 => 0x3F40BE10#32
  | 29 => 0x3DC7737B#32
  | 30 => 0xBF9271DA#32
  | 31 => 0x3F14497A#32
  | 32 => 0x3F0DFFD4#32
  | 33 => 0x401EF9D1#32
  | 34 => 0xBFAAB70E#32
  | 35 => 0xBE506DCC#32
  | 36 => 0x400DE883#32
  | 37 => 0xBF0D0D73#32
  | 38 => 0xBF713062#32
  | 39 => 0x3F77B8CE#32
  | 40 => 0x40243CE3#32
  | 41 => 0x3E3DB5AB#32
  | 42 => 0x3E722419#32
  | 43 => 0xBDAEFBEA#32
  | 44 => 0x3DE0A26B#32
  | 45 => 0x3E75F900#32
  | 46 => 0x3FCAEAFE#32
  | 47 => 0xBE9EAA28#32
  | 48 => 0x3F76DC84#32
  | 49 => 0xBF5A59B8#32
  | 50 => 0xBF22161A#32
  | 51 => 0x3F3F7246#32
  | 52 => 0xBF648C50#32
  | 53 => 0x401C26BC#32
  | 54 => 0xBF125F93#32
  | 55 => 0x400ADDBC#32
  | 56 => 0x3FAFC542#32
  | 57 => 0x3FBC574E#32
  | 58 => 0xBF9B7BF7#32
  | 59 => 0x3FADBF02#32
  | 60 => 0xBE4D10E0#32
  | 61 => 0x3D8148C3#32
  | 62 => 0xBF1148AD#32
  | 63 => 0x403F748A#32
  | 64 => 0x3E0314C8#32
  | 65 => 0x3F27F462#32
  | 66 => 0xBE29FE28#32
  | 67 => 0xBD00A2D2#32
  | 68 => 0xBF82F489#32
  | 69 => 0x3F878947#32
  | 70 => 0x40088AFD#32
  | 71 => 0x3FFCB9E8#32
  | 72 => 0xBF2B8A74#32
  | 73 => 0x3FB99D1C#32
  | 74 => 0xBF0231AD#32
  | 75 => 0xBF611760#32
  | 76 => 0xBFB4C163#32
  | 77 => 0x3F340FD9#32
  | 78 => 0xBD8B5A3D#32
  | 79 => 0x3F053AE4#32
  | 80 => 0x3F048D6E#32
  | 81 => 0xBF2672C5#32
  | 82 => 0x3F3290FA#32
  | 83 => 0xBED635D6#32
  | 84 => 0x3E29B49D#32
  | 85 => 0xBEB4F84C#32
  | 86 => 0xBF9A7E5A#32
  | 87 => 0x3E42745C#32
  | 88 => 0xBEBA2586#32
  | 89 => 0x401064D7#32
  | 90 => 0xBEDDD5C0#32
  | 91 => 0x3D8EA548#32
  | 92 => 0xBDABA957#32
  | 93 => 0x3EE4650E#32
  | 94 => 0x3F8F1F21#32
  | 95 => 0x3E76B97C#32
  | 96 => 0x3FBFB512#32
  | 97 => 0x3E8CEB37#32
  | 98 => 0x3EE8B5C7#32
  | 99 => 0xBD3C7C8D#32
  | 100 => 0x3CB18D8A#32
  | 101 => 0xBDDFDC9F#32
  | 102 => 0xBF64BA4E#32
  | 103 => 0xBF9762C7#32
  | 104 => 0x3DAA7FA1#32
  | 105 => 0x3F8C59EA#32
  | 106 => 0x3FF99EEA#32
  | 107 => 0xBF8B2D66#32
  | 108 => 0x3FDAFCF6#32
  | 109 => 0x3F047D58#32
  | 110 => 0x3FB0DE03#32
  | 111 => 0x3FAECA7B#32
  | 112 => 0x3EB2CE2D#32
  | 113 => 0x3E36B55F#32
  | 114 => 0xBE6186E4#32
  | 115 => 0xBEAD691D#32
  | 116 => 0xBF670698#32
  | 117 => 0xBE625A78#32
  | 118 => 0x3FF302E2#32
  | 119 => 0x3FCB08EF#32
  | 120 => 0x401762DE#32
  | 121 => 0xBE99E9CA#32
  | 122 => 0x3FD8BC9F#32
  | 123 => 0x3F1832B1#32
  | 124 => 0xBEA825E9#32
  | 125 => 0xBE3A6885#32
  | 126 => 0xBF080007#32
  | 127 => 0x4012CE23#32
  | _ => 0#32

noncomputable abbrev lit0t0_12 (i : Nat) : BitVec 32 := match i % 128 with
  | 0 => 0x3F8C6A96#32
  | 1 => 0xBEEF51D6#32
  | 2 => 0x3EC04E43#32
  | 3 => 0x3EF7144F#32
  | 4 => 0x3F4542BA#32
  | 5 => 0xBCDFA074#32
  | 6 => 0xBE8E17C2#32
  | 7 => 0x3FAF3AB5#32
  | 8 => 0x3E7552B9#32
  | 9 => 0xBF8CE4E4#32
  | 10 => 0x40670373#32
  | 11 => 0x40018246#32
  | 12 => 0xBF42E663#32
  | 13 => 0x405D8630#32
  | 14 => 0xBFA85A85#32
  | 15 => 0x3FBDAEBB#32
  | 16 => 0x3E65A82D#32
  | 17 => 0x3F2C2EE7#32
  | 18 => 0xBF059A1F#32
  | 19 => 0xBECDF08F#32
  | 20 => 0xBE458BBB#32
  | 21 => 0xBECFFD11#32
  | 22 => 0x3F19CF6A#32
  | 23 => 0x3EC07FAD#32
  | 24 => 0x3F941199#32
  | 25 => 0xBFA2A56B#32
  | 26 => 0x3EBE40DF#32
  | 27 => 0x3F13D326#32
  | 28 => 0x3EC8D79E#32
  | 29 => 0xBDF7983E#32
  | 30 => 0x3FCB72C1#32
  | 31 => 0x3F065CC6#32
  | 32 => 0x40473C98#32
  | 33 => 0x40967A3B#32
  | 34 => 0xBFBD28FB#32
  | 35 => 0xBD4A927D#32
  | 36 => 0x3FCDE181#32
  | 37 => 0xBD880EF5#32
  | 38 => 0x3F291CC8#32
  | 39 => 0x401ACBFC#32
  | 40 => 0x4031E917#32
  | 41 => 0xBF59453B#32
  | 42 => 0xBEC8A1DE#32
  | 43 => 0x3E245F23#32
  | 44 => 0x3F121878#32
  | 45 => 0x400C2878#32
  | 46 => 0xBEE06EBB#32
  | 47 => 0x4074CB29#32
  | 48 => 0x3E125C36#32
  | 49 => 0xBF031F9B#32
  | 50 => 0x3F48EB65#32
  | 51 => 0x400030F3#32
  | 52 => 0x3F44D301#32
  | 53 => 0x3FEA33E1#32
  | 54 => 0xBF2C55E2#32
  | 55 => 0x408D05B2#32
  | 56 => 0xBF1D9176#32
  | 57 => 0x3E3504CF#32
  | 58 => 0xBEBF138F#32
  | 59 => 0xBF052785#32
  | 60 => 0x3E7D8213#32
  | 61 => 0x3FAB43C2#32
  | 62 => 0x3FC02413#32
  | 63 => 0x3F9F38E1#32
  | 64 => 0x40378E0D#32
  | 65 => 0xBF89C78D#32
  | 66 => 0x3E8CE82E#32
  | 67 => 0x3F915DE4#32
  | 68 => 0x3F8C1CB1#32
  | 69 => 0xBD974B89#32
  | 70 => 0x3F51B414#32
  | 71 => 0x3F53A2E3#32
  | 72 => 0x40275D01#32
  | 73 => 0xBF23A66A#32
  | 74 => 0x3FB0FE8E#32
  | 75 => 0x3F2417BD#32
  | 76 => 0x3F0B7049#32
  | 77 => 0xBF3C8C74#32
  | 78 => 0x3F16DC40#32
  | 79 => 0x3E16CDDE#32
  | 80 => 0x3F8735BC#32
  | 81 => 0x408DC239#32
  | 82 => 0x400C7FF5#32
  | 83 => 0x3F5DC819#32
  | 84 => 0x3F93BCE3#32
  | 85 => 0x3EE64FDC#32
  | 86 => 0x3EE41F27#32
  | 87 => 0x3F41A957#32
  | 88 => 0xBE1B9CB5#32
  | 89 => 0x3E75F7B1#32
  | 90 => 0xBE4CFB9E#32
  | 91 => 0xBF419296#32
  | 92 => 0xBC2C85A7#32
  | 93 => 0x3EB67DAC#32
  | 94 => 0x3E9BDC71#32
  | 95 => 0xBF9996C0#32
  | 96 => 0x4008A1C4#32
  | 97 => 0x40434767#32
  | 98 => 0xBD10EEA6#32
  | 99 => 0x3FD4B8E6#32
  | 100 => 0x3F9323D4#32
  | 101 => 0x3ECC270F#32
  | 102 => 0xBEF5B5A0#32
  | 103 => 0x3BC257BF#32
  | 104 => 0x3F86C1E4#32
  | 105 => 0x3FCB53A8#32
  | 106 => 0x40546CCA#32
  | 107 => 0xBEAD1D4A#32
  | 108 => 0x3F39705F#32
  | 109 => 0x3FE08AA6#32
  | 110 => 0x3F344466#32
  | 111 => 0xBEE85309#32
  | 112 => 0x408D7CD8#32
  | 113 => 0x406890CB#32
  | 114 => 0x3F19783E#32
  | 115 => 0xBEE60BB4#32
  | 116 => 0x3EE7E428#32
  | 117 => 0x3E8F5019#32
  | 118 => 0x4031940F#32
  | 119 => 0x3ED05966#32
  | 120 => 0xBE8C2714#32
  | 121 => 0x3F4F3D3E#32
  | 122 => 0x405FE132#32
  | 123 => 0x3F5B8849#32
  | 124 => 0xBDF7705E#32
  | 125 => 0x40BFA8FE#32
  | 126 => 0xBE024A8F#32
  | 127 => 0x4059E55D#32
  | _ => 0#32

noncomputable abbrev lit0t0_13 (i : Nat) : BitVec 32 := match i % 128 with
  | 0 => 0x3F7D78D8#32
  | 1 => 0x3F8E3F6B#32
  | 2 => 0x3C89B6AD#32
  | 3 => 0x3F18CAE6#32
  | 4 => 0x3F7B0F40#32
  | 5 => 0x3C6224B4#32
  | 6 => 0xBF90FAF6#32
  | 7 => 0xBF759390#32
  | 8 => 0xBF1D51AF#32
  | 9 => 0xBBDF885F#32
  | 10 => 0xBE8DAF05#32
  | 11 => 0x3FAA7021#32
  | 12 => 0x40970D9E#32
  | 13 => 0x3F8A56CC#32
  | 14 => 0xBEEB93CF#32
  | 15 => 0x3DA7826D#32
  | 16 => 0xBF464EFA#32
  | 17 => 0x3ECAD0A2#32
  | 18 => 0x3FECD35F#32
  | 19 => 0xBE19D2A4#32
  | 20 => 0xBED463F5#32
  | 21 => 0x3E02BD08#32
  | 22 => 0xBDCE066D#32
  | 23 => 0x3D71806C#32
  | 24 => 0x3E259AC3#32
  | 25 => 0x3F97F270#32
  | 26 => 0x3FA1837A#32
  | 27 => 0xBFDF5448#32
  | 28 => 0x3EDEE8D1#32
  | 29 => 0xBF502AD4#32
  | 30 => 0x3E8C5C5F#32
  | 31 => 0xBE1B5046#32
  | 32 => 0x3F3399F5#32
  | 33 => 0xBF821A62#32
  | 34 => 0x3EC26911#32
  | 35 => 0x3F465C72#32
  | 36 => 0xBF4CF7D0#32
  | 37 => 0x3D927DFD#32
  | 38 => 0x40AE5417#32
  | 39 => 0xBEC3BFAD#32
  | 40 => 0xBF251DC3#32
  | 41 => 0x3F191D09#32
  | 42 => 0xBF82F3F2#32
  | 43 => 0xBE604530#32
  | 44 => 0xBFBF56D3#32
  | 45 => 0x3F210976#32
  | 46 => 0x3D92A0E6#32
  | 47 => 0x3ECD53A6#32
  | 48 => 0xBF617D4B#32
  | 49 => 0x3ECF1B6D#32
  | 50 => 0x407ABE0F#32
  | 51 => 0x3F863BE2#32
  | 52 => 0xBFAC1381#32
  | 53 => 0xBE409AC2#32
  | 54 => 0x3FEF1F47#32
  | 55 => 0xBF664D17#32
  | 56 => 0x3FEFD729#32
  | 57 => 0x403C1E78#32
  | 58 => 0xBED48490#32
  | 59 => 0xBEE09EDA#32
  | 60 => 0x3E13D02A#32
  | 61 => 0x3FC08843#32
  | 62 => 0x3FC3347A#32
  | 63 => 0xBFA4AD36#32
  | 64 => 0x3D26D1E8#32
  | 65 => 0xBE90ACDD#32
  | 66 => 0xBE4F2332#32
  | 67 => 0x3D88D149#32
  | 68 => 0x40356950#32
  | 69 => 0x3F7370A4#32
  | 70 => 0x3FAC7DD6#32
  | 71 => 0xBD7D82AE#32
  | 72 => 0x3F081BC7#32
  | 73 => 0x3F278E13#32
  | 74 => 0x3E6B80EE#32
  | 75 => 0x3F241B81#32
  | 76 => 0xBF11F8DB#32
  | 77 => 0x3F9FD754#32
  | 78 => 0x3FA970F8#32
  | 79 => 0x3FC43EB5#32
  | 80 => 0x3FB7EC44#32
  | 81 => 0xBF567999#32
  | 82 => 0x3E8989D4#32
  | 83 => 0x3DD19264#32
  | 84 => 0xBF3B4B77#32
  | 85 => 0x3E1B4243#32
  | 86 => 0x3F9C279B#32
  | 87 => 0xBE4750BD#32
  | 88 => 0x3FF48A0E#32
  | 89 => 0x3F8D99E1#32
  | 90 => 0xBF9AB6A3#32
  | 91 => 0x3FFB6602#32
  | 92 => 0xBF070142#32
  | 93 => 0xBF09A1E2#32
  | 94 => 0xBF52527F#32
  | 95 => 0x3E80FA62#32
  | 96 => 0xBE66FDEA#32
  | 97 => 0xBEA48AEE#32
  | 98 => 0xBE361E86#32
  | 99 => 0x3C5740A7#32
  | 100 => 0x3EB746CE#32
  | 101 => 0x3E52F99E#32
  | 102 => 0xBE9F94B0#32
  | 103 => 0xBF89664B#32
  | 104 => 0x40324614#32
  | 105 => 0xBF2F8630#32
  | 106 => 0xBDB28FE6#32
  | 107 => 0x40295270#32
  | 108 => 0xBE914F4C#32
  | 109 => 0xBE723BF5#32
  | 110 => 0x3F63494D#32
  | 111 => 0x3F816214#32
  | 112 => 0x3F6D8062#32
  | 113 => 0xBF438A5D#32
  | 114 => 0x3FC8C14D#32
  | 115 => 0xBE614CEA#32
  | 116 => 0x401F553F#32
  | 117 => 0xBEA3878C#32
  | 118 => 0x3FB17973#32
  | 119 => 0x3F3576BF#32
  | 120 => 0x40157463#32
  | 121 => 0xBF5AD41F#32
  | 122 => 0x3CFCB62E#32
  | 123 => 0x3ECE9475#32
  | 124 => 0x4090468D#32
  | 125 => 0xBDDF49F9#32
  | 126 => 0x401BA113#32
  | 127 => 0x40C1B56A#32
  | _ => 0#32

noncomputable abbrev lit0t0_14 (i : Nat) : BitVec 32 := match i % 128 with
  | 0 => 0x3E73886C#32
  | 1 => 0xBD97EDDF#32
  | 2 => 0x3F96AE35#32
  | 3 => 0xBFA1C464#32
  | 4 => 0x3E7A2580#32
  | 5 => 0x3F08E866#32
  | 6 => 0x3F4BB93D#32
  | 7 => 0x3EAF0795#32
  | 8 => 0x3FC60152#32
  | 9 => 0x3F4D9A40#32
  | 10 => 0xBFD7E0DC#32
  | 11 => 0x4008596E#32
  | 12 => 0x3FC0E33A#32
  | 13 => 0x3F48228E#32
  | 14 => 0x3FC0CE44#32
  | 15 => 0x3E3B6903#32
  | 16 => 0x3FEEB51D#32
  | 17 => 0xBF010B65#32
  | 18 => 0x3DC4DBBD#32
  | 19 => 0x3E326944#32
  | 20 => 0x3E83F65D#32
  | 21 => 0x401D42E2#32
  | 22 => 0xBF4E2DB0#32
  | 23 => 0xBEB96686#32
  | 24 => 0xBF9447A0#32
  | 25 => 0x3F1F5165#32
  | 26 => 0x3FC1392A#32
  | 27 => 0x3F8B5DF8#32
  | 28 => 0x3F466BA8#32
  | 29 => 0x40530C4C#32
  | 30 => 0x3E5FC449#32
  | 31 => 0x3E4294EF#32
  | 32 => 0x3F3F024E#32
  | 33 => 0xBCF81EC8#32
  | 34 => 0xBE652FF5#32
  | 35 => 0x3FF8ADF7#32
  | 36 => 0x3FC6E2B1#32
  | 37 => 0x402F8400#32
  | 38 => 0x3F1155D0#32
  | 39 => 0x3EDC5A91#32
  | 40 => 0x3D557E4E#32
  | 41 => 0x3FCD12C4#32
  | 42 => 0x3EB94559#32
  | 43 => 0x3F9F6FD2#32
  | 44 => 0xBB0EFA0B#32
  | 45 => 0x3F390760#32
  | 46 => 0x3F8AC49D#32
  | 47 => 0x4011339F#32
  | 48 => 0x3FBEAB0F#32
  | 49 => 0x3F82939D#32
  | 50 => 0xBE07B4BD#32
  | 51 => 0x3FA3EBF8#32
  | 52 => 0x3F838C22#32
  | 53 => 0xBFA79F45#32
  | 54 => 0xBEC7D807#32
  | 55 => 0xBFDF2218#32
  | 56 => 0x3F90330A#32
  | 57 => 0x3FB5E68C#32
  | 58 => 0xBE84CA18#32
  | 59 => 0x3F312972#32
  | 60 => 0x3EAFAD8E#32
  | 61 => 0x3F4247BB#32
  | 62 => 0x3F40BE68#32
  | 63 => 0x3F1A0C3F#32
  | 64 => 0xBF1B9374#32
  | 65 => 0x4033784D#32
  | 66 => 0x3F63711A#32
  | 67 => 0xBEB6E812#32
  | 68 => 0x40917904#32
  | 69 => 0x3FCB6355#32
  | 70 => 0x3ECDAAD1#32
  | 71 => 0xBED601EA#32
  | 72 => 0xBE428B76#32
  | 73 => 0x3FA8434F#32
  | 74 => 0x3F2D16B4#32
  | 75 => 0xBF88E726#32
  | 76 => 0xBF263126#32
  | 77 => 0x3FABCD28#32
  | 78 => 0x3F841D3F#32
  | 79 => 0xBE703777#32
  | 80 => 0xBF067FD6#32
  | 81 => 0x40851E1A#32
  | 82 => 0x3CC15099#32
  | 83 => 0x400C63CD#32
  | 84 => 0x3FCC91B7#32
  | 85 => 0xBE5D1B5B#32
  | 86 => 0x3F324FC0#32
  | 87 => 0x3E9D339E#32
  | 88 => 0x3EE21C45#32
  | 89 => 0xBF63C274#32
  | 90 => 0xBEBAFD66#32
  | 91 => 0x3F0727AB#32
  | 92 => 0x3E3C02F7#32
  | 93 => 0x3F672E3E#32
  | 94 => 0x3E9C4DB6#32
  | 95 => 0xBEEC9B87#32
  | 96 => 0x3EA8B817#32
  | 97 => 0xBF6E6B22#32
  | 98 => 0x3EF56CF2#32
  | 99 => 0x3FE573AD#32
  | 100 => 0xBF35C10F#32
  | 101 => 0x3FAC2D58#32
  | 102 => 0x402F79A7#32
  | 103 => 0x3FFE9B38#32
  | 104 => 0x3F16F35C#32
  | 105 => 0xBD13A48B#32
  | 106 => 0xBF0B5646#32
  | 107 => 0xBEE3DE89#32
  | 108 => 0x3FCBA9D9#32
  | 109 => 0xBE1937C2#32
  | 110 => 0xBD96ABB4#32
  | 111 => 0x3F9EB329#32
  | 112 => 0x400D4695#32
  | 113 => 0x3D9F534F#32
  | 114 => 0x3E8D927F#32
  | 115 => 0xBE8C44F6#32
  | 116 => 0x3FA456E5#32
  | 117 => 0x400C0D89#32
  | 118 => 0xBE72C948#32
  | 119 => 0x409B130E#32
  | 120 => 0x3FA9DA18#32
  | 121 => 0xBDA29465#32
  | 122 => 0xBF413180#32
  | 123 => 0xBF113DAB#32
  | 124 => 0x3E7C684E#32
  | 125 => 0xBFEADDDE#32
  | 126 => 0xBEA23D11#32
  | 127 => 0xBF1E91C6#32
  | _ => 0#32

noncomputable abbrev lit0t0_15 (i : Nat) : BitVec 32 := match i % 128 with
  | 0 => 0x3FAD085A#32
  | 1 => 0x40030BB5#32
  | 2 => 0x3EF4B902#32
  | 3 => 0xBF08A3DC#32
  | 4 => 0x3F932C29#32
  | 5 => 0xBF0E0E06#32
  | 6 => 0xBF0BBFE2#32
  | 7 => 0x3F799078#32
  | 8 => 0x3FA46AFA#32
  | 9 => 0xBF6ECB22#32
  | 10 => 0x3F089A92#32
  | 11 => 0x3EAEFD77#32
  | 12 => 0x4006C5A8#32
  | 13 => 0x3F9AD2B9#32
  | 14 => 0x3F5D738B#32
  | 15 => 0x3EBAE05C#32
  | 16 => 0xBF92CF27#32
  | 17 => 0x4073DE70#32
  | 18 => 0xBF11C4E5#32
  | 19 => 0xBF900C31#32
  | 20 => 0xBE9578F5#32
  | 21 => 0x3D045481#32
  | 22 => 0x3F53A1EB#32
  | 23 => 0xBDB9B56C#32
  | 24 => 0xBF95BDF9#32
  | 25 => 0xBD0AEAD0#32
  | 26 => 0x3E23BC89#32
  | 27 => 0x3EC7E5B4#32
  | 28 => 0x3FEB9850#32
  | 29 => 0xBC55CD52#32
  | 30 => 0x3DCF736E#32
  | 31 => 0x3FA643DA#32
  | 32 => 0x3F5D523E#32
  | 33 => 0xBF1BA1CA#32
  | 34 => 0xBEFEAD99#32
  | 35 => 0xBFA3E3BE#32
  | 36 => 0x3F3D1B1B#32
  | 37 => 0x3F1CD48A#32
  | 38 => 0xBEF6915A#32
  | 39 => 0x3F0F93E9#32
  | 40 => 0x3F5997DA#32
  | 41 => 0xBF86DD20#32
  | 42 => 0x3F0F8573#32
  | 43 => 0xBE459A49#32
  | 44 => 0xBBD1DB9A#32
  | 45 => 0x3FA1174F#32
  | 46 => 0xBF183976#32
  | 47 => 0x3F485F38#32
  | 48 => 0xBF2B0F4B#32
  | 49 => 0x4050F055#32
  | 50 => 0x3FE0FB06#32
  | 51 => 0x3FEA0FB6#32
  | 52 => 0x3F9B509F#32
  | 53 => 0x40162338#32
  | 54 => 0xBE1C91F4#32
  | 55 => 0x3F74DEBE#32
  | 56 => 0xBEC41F5A#32
  | 57 => 0xBE733E0B#32
  | 58 => 0x3FC20F11#32
  | 59 => 0x3E1903B9#32
  | 60 => 0xBC9953DD#32
  | 61 => 0x3F96EDCE#32
  | 62 => 0xBEC7E73D#32
  | 63 => 0x3FB80374#32
  | 64 => 0xBE32DBB6#32
  | 65 => 0xBEF3116E#32
  | 66 => 0xBE2BF8CD#32
  | 67 => 0x40AB8D95#32
  | 68 => 0xBEB69522#32
  | 69 => 0x4013B810#32
  | 70 => 0x3F61B6DB#32
  | 71 => 0x3FFD9FAF#32
  | 72 => 0xBE3E2552#32
  | 73 => 0x3F1E885E#32
  | 74 => 0xBF93CEC6#32
  | 75 => 0x3F930C7F#32
  | 76 => 0xBE8A55E3#32
  | 77 => 0xBFA97B05#32
  | 78 => 0xBF670D88#32
  | 79 => 0xBE4A2A74#32
  | 80 => 0x3FCE2E8B#32
  | 81 => 0xBF2409CB#32
  | 82 => 0x3F9012D3#32
  | 83 => 0x4028FD92#32
  | 84 => 0xBF267147#32
  | 85 => 0xBF421DF4#32
  | 86 => 0xBFA6457A#32
  | 87 => 0xBF2EC54F#32
  | 88 => 0xBE4CD985#32
  | 89 => 0xBF720149#32
  | 90 => 0x3F89F21D#32
  | 91 => 0x3F9FF922#32
  | 92 => 0x3F518CEB#32
  | 93 => 0x3C9EF649#32
  | 94 => 0x3F57826A#32
  | 95 => 0x4035B879#32
  | 96 => 0x40146349#32
  | 97 => 0xBEA682AF#32
  | 98 => 0xBFB4E972#32
  | 99 => 0x3FEA217A#32
  | 100 => 0x3FD4924B#32
  | 101 => 0x3D12B41B#32
  | 102 => 0xBF3ABE32#32
  | 103 => 0x3FE7184D#32
  | 104 => 0xBF13985C#32
  | 105 => 0x3FC93355#32
  | 106 => 0x3FFB84E0#32
  | 107 => 0x3FA744D2#32
  | 108 => 0x3FA6ED5C#32
  | 109 => 0x3F02BAC0#32
  | 110 => 0x3F5728B6#32
  | 111 => 0xBD83664E#32
  | 112 => 0xBED5BFB8#32
  | 113 => 0xBE131184#32
  | 114 => 0x3EB71E63#32
  | 115 => 0xBEC7FA84#32
  | 116 => 0xBEA113A9#32
  | 117 => 0x3E1F18EA#32
  | 118 => 0x3F2037F9#32
  | 119 => 0xBE1A6113#32
  | 120 => 0x3F6D18DE#32
  | 121 => 0x408F9DAE#32
  | 122 => 0xBF60CB2D#32
  | 123 => 0x40035F39#32
  | 124 => 0x3F97F3EF#32
  | 125 => 0x3FEC97EC#32
  | 126 => 0x40635721#32
  | 127 => 0x3F3ABA0E#32
  | _ => 0#32

noncomputable abbrev lit0t0_16 (i : Nat) : BitVec 32 := match i % 128 with
  | 0 => 0xBF5EBBFA#32
  | 1 => 0x3F5C2F52#32
  | 2 => 0x3FA1FD07#32
  | 3 => 0x3F179CF4#32
  | 4 => 0x3D5D79DB#32
  | 5 => 0xBFC73F35#32
  | 6 => 0x3F4C7FDE#32
  | 7 => 0x3FE95413#32
  | 8 => 0x3D2F71AE#32
  | 9 => 0xBEBE8A96#32
  | 10 => 0xBFC332D0#32
  | 11 => 0xBEB04529#32
  | 12 => 0xBFA80C32#32
  | 13 => 0xBFB7F0BF#32
  | 14 => 0x3F296784#32
  | 15 => 0x401A53DF#32
  | 16 => 0x3FC105B7#32
  | 17 => 0x3F6E4C02#32
  | 18 => 0xBF394C20#32
  | 19 => 0xBF953C36#32
  | 20 => 0x3F2E56AD#32
  | 21 => 0xBF877AAC#32
  | 22 => 0x3ED0061A#32
  | 23 => 0x40036092#32
  | 24 => 0x3F1F2FAF#32
  | 25 => 0xBF2CF71F#32
  | 26 => 0x3ED527FC#32
  | 27 => 0x403AE1FC#32
  | 28 => 0x3FC46A2F#32
  | 29 => 0x3FFA3FD2#32
  | 30 => 0xBF33748E#32
  | 31 => 0x4022AFF0#32
  | 32 => 0x3EC8A0FC#32
  | 33 => 0xBF29DEA3#32
  | 34 => 0xBD7B52A7#32
  | 35 => 0xBF8452F5#32
  | 36 => 0x3FE4C8B5#32
  | 37 => 0x3FB11FBE#32
  | 38 => 0x3D726262#32
  | 39 => 0x3D942251#32
  | 40 => 0x40C73068#32
  | 41 => 0x3E899F14#32
  | 42 => 0xBEFAFC04#32
  | 43 => 0x3F0F2B79#32
  | 44 => 0x402C2C9F#32
  | 45 => 0xBD4C63E8#32
  | 46 => 0xBEAC1889#32
  | 47 => 0x3FCDFB29#32
  | 48 => 0xBF98BCC9#32
  | 49 => 0x3D1023F7#32
  | 50 => 0x3FAF2EB5#32
  | 51 => 0x3FD8D888#32
  | 52 => 0x3EB20BF8#32
  | 53 => 0xBF93C70B#32
  | 54 => 0xBF461B64#32
  | 55 => 0xBF68394A#32
  | 56 => 0x3F90321C#32
  | 57 => 0x3EE9E098#32
  | 58 => 0x3F8B07B4#32
  | 59 => 0x3FE5CEFE#32
  | 60 => 0xBF84607C#32
  | 61 => 0x401F75E6#32
  | 62 => 0x3EE1628E#32
  | 63 => 0x405789BE#32
  | 64 => 0x3F0A30CB#32
  | 65 => 0x3F9661EE#32
  | 66 => 0x3FD97C54#32
  | 67 => 0x3E522145#32
  | 68 => 0x3FCE2AD2#32
  | 69 => 0xBF715B76#32
  | 70 => 0x3FE8459E#32
  | 71 => 0xBF32B71D#32
  | 72 => 0xBF91C9E0#32
  | 73 => 0x3D5391A5#32
  | 74 => 0xBF32DC49#32
  | 75 => 0xBE80C9F8#32
  | 76 => 0x3F4B520D#32
  | 77 => 0x3F808FB1#32
  | 78 => 0x3F93EE0E#32
  | 79 => 0xBCA6B6C4#32
  | 80 => 0x3FD82518#32
  | 81 => 0xBF3E9DDA#32
  | 82 => 0xBE0F458E#32
  | 83 => 0x3FE5F933#32
  | 84 => 0x3F90AE08#32
  | 85 => 0xBF211B9E#32
  | 86 => 0x40614E29#32
  | 87 => 0xBED10C39#32
  | 88 => 0xBED50BE4#32
  | 89 => 0xBED80F5A#32
  | 90 => 0x3F8ACC2E#32
  | 91 => 0x3D374F14#32
  | 92 => 0x40A60893#32
  | 93 => 0x3F357F14#32
  | 94 => 0xBF948CE0#32
  | 95 => 0x3F95487B#32
  | 96 => 0x3E97469D#32
  | 97 => 0xBF79DCC4#32
  | 98 => 0xBF773190#32
  | 99 => 0xBE5A8441#32
  | 100 => 0x3ED7CA2D#32
  | 101 => 0xBEB6652B#32
  | 102 => 0x3FC56E92#32
  | 103 => 0xBFF8A1FB#32
  | 104 => 0x3E37E60F#32
  | 105 => 0xBD358B0E#32
  | 106 => 0x3F138976#32
  | 107 => 0x3F29C2F0#32
  | 108 => 0xBE4A1350#32
  | 109 => 0x3FB1429F#32
  | 110 => 0x3E249D69#32
  | 111 => 0xBE8DBB1E#32
  | 112 => 0xBF0146C9#32
  | 113 => 0x3D294DD8#32
  | 114 => 0x400862D6#32
  | 115 => 0xBF624AAA#32
  | 116 => 0x3EA23294#32
  | 117 => 0x3F04EFD1#32
  | 118 => 0x3F4421D9#32
  | 119 => 0x3F4047FB#32
  | 120 => 0xBF346459#32
  | 121 => 0x3F1A6452#32
  | 122 => 0xBE23C2F8#32
  | 123 => 0xBFB77E3D#32
  | 124 => 0xBEC1F35E#32
  | 125 => 0xBF885CC1#32
  | 126 => 0x3EE2FB6B#32
  | 127 => 0xBFA5E0BC#32
  | _ => 0#32

noncomputable abbrev lit0t0_17 (i : Nat) : BitVec 32 := match i % 128 with
  | 0 => 0xBE97E1C0#32
  | 1 => 0x3EF30612#32
  | 2 => 0xBF0EAF45#32
  | 3 => 0xBCFB4DCE#32
  | 4 => 0x3E02A776#32
  | 5 => 0x3E1F5B28#32
  | 6 => 0x406C5904#32
  | 7 => 0xBE9BCC7F#32
  | 8 => 0x3FCA23FD#32
  | 9 => 0x3F0C33A2#32
  | 10 => 0x3DFE5CC5#32
  | 11 => 0xBECC6CBD#32
  | 12 => 0xBFD47216#32
  | 13 => 0x4089690D#32
  | 14 => 0x3E46704B#32
  | 15 => 0x3F948A1A#32
  | 16 => 0x3F4062BC#32
  | 17 => 0x3DF75230#32
  | 18 => 0xBF225499#32
  | 19 => 0x40019F4D#32
  | 20 => 0x40258F68#32
  | 21 => 0x4030B428#32
  | 22 => 0x3FC58ADC#32
  | 23 => 0x3F5ED33B#32
  | 24 => 0x3EDEE600#32
  | 25 => 0x3F1CF905#32
  | 26 => 0x3E41D351#32
  | 27 => 0x3F53A0BA#32
  | 28 => 0xBF961E9C#32
  | 29 => 0x3E9EC6D2#32
  | 30 => 0x3F3748E5#32
  | 31 => 0x402406D5#32
  | 32 => 0x3FDB1AF0#32
  | 33 => 0x3FAA1B60#32
  | 34 => 0x3E9F42BD#32
  | 35 => 0x40000B88#32
  | 36 => 0x3F6A45B0#32
  | 37 => 0x3FBE7CD9#32
  | 38 => 0xBFAB2AF6#32
  | 39 => 0x3DCA5B54#32
  | 40 => 0x3EB6810A#32
  | 41 => 0xBF86BBD5#32
  | 42 => 0xBF5C5DB3#32
  | 43 => 0x4087343E#32
  | 44 => 0xBEF88E51#32
  | 45 => 0xBEFB8853#32
  | 46 => 0xBEAFFEFA#32
  | 47 => 0x3F98744F#32
  | 48 => 0x3FB83A98#32
  | 49 => 0x3F144515#32
  | 50 => 0x3F5CC505#32
  | 51 => 0x3F43FB84#32
  | 52 => 0x3FD27686#32
  | 53 => 0x3F1458A4#32
  | 54 => 0xBFA4455B#32
  | 55 => 0x3E9C7EA0#32
  | 56 => 0x3F61C10C#32
  | 57 => 0x3FADFC59#32
  | 58 => 0x3F6C483A#32
  | 59 => 0x3E5F87A8#32
  | 60 => 0xBEEF5024#32
  | 61 => 0x3FB62DFD#32
  | 62 => 0x3FAA1CCC#32
  | 63 => 0x3EC27394#32
  | 64 => 0x3FA8190E#32
  | 65 => 0xBF41759C#32
  | 66 => 0x3F502FF4#32
  | 67 => 0xBEF51652#32
  | 68 => 0x3DA45475#32
  | 69 => 0x405EE66A#32
  | 70 => 0x401A9471#32
  | 71 => 0x3EF92D8E#32
  | 72 => 0x3E811604#32
  | 73 => 0x3EAA3A81#32
  | 74 => 0x3F16C545#32
  | 75 => 0xBF5F9F05#32
  | 76 => 0xBFB057CC#32
  | 77 => 0x3FA3B3C8#32
  | 78 => 0x3F8EDC21#32
  | 79 => 0xBEE339D4#32
  | 80 => 0xBE941077#32
  | 81 => 0xBE5C483A#32
  | 82 => 0x4005E0E4#32
  | 83 => 0xBEEC4395#32
  | 84 => 0xBF0AB358#32
  | 85 => 0x3CB0CB21#32
  | 86 => 0x3F6C54D7#32
  | 87 => 0x3F6443FA#32
  | 88 => 0x3D0B3F60#32
  | 89 => 0x3F573105#32
  | 90 => 0x3FAFACA8#32
  | 91 => 0xBF2389DE#32
  | 92 => 0x3E05D7C1#32
  | 93 => 0x3FC4C151#32
  | 94 => 0xBF025375#32
  | 95 => 0xBF7BC5A9#32
  | 96 => 0x3F776010#32
  | 97 => 0x3FA54087#32
  | 98 => 0x3E918674#32
  | 99 => 0xBF1DE8D2#32
  | 100 => 0xBEBAE738#32
  | 101 => 0xBF860AA6#32
  | 102 => 0x401787D2#32
  | 103 => 0x3FC77F5B#32
  | 104 => 0xBF0793A6#32
  | 105 => 0x3F90C177#32
  | 106 => 0x404156A4#32
  | 107 => 0xBF8C7D94#32
  | 108 => 0x3F6D3581#32
  | 109 => 0xBF0A418B#32
  | 110 => 0xBED8B63A#32
  | 111 => 0xBFB8FEAA#32
  | 112 => 0xBE9AA63D#32
  | 113 => 0x403517BD#32
  | 114 => 0xBECBC319#32
  | 115 => 0x409DD005#32
  | 116 => 0x4069F41B#32
  | 117 => 0x4008ABD3#32
  | 118 => 0x3DD2AA74#32
  | 119 => 0x3E22B759#32
  | 120 => 0x3F501CFB#32
  | 121 => 0x3D97D35C#32
  | 122 => 0xBF20EC54#32
  | 123 => 0xBED0E2E5#32
  | 124 => 0x40207A4C#32
  | 125 => 0x40195ACA#32
  | 126 => 0x40116E43#32
  | 127 => 0x3F67760B#32
  | _ => 0#32

noncomputable abbrev lit0t0_18 (i : Nat) : BitVec 32 := match i % 128 with
  | 0 => 0xBF42EEBC#32
  | 1 => 0x3E7B71DF#32
  | 2 => 0xBF390118#32
  | 3 => 0xBF641B38#32
  | 4 => 0xBF18EBD3#32
  | 5 => 0x401F743B#32
  | 6 => 0xBF7628C3#32
  | 7 => 0xBEA0F0A8#32
  | 8 => 0xBF4930D4#32
  | 9 => 0xBEA44C66#32
  | 10 => 0x3F154090#32
  | 11 => 0x4015BBF9#32
  | 12 => 0x3F02E6A5#32
  | 13 => 0x403807BA#32
  | 14 => 0x3F08012C#32
  | 15 => 0x3ED84AB6#32
  | 16 => 0x3FDA108D#32
  | 17 => 0x4006B149#32
  | 18 => 0x3E9F05D0#32
  | 19 => 0x3F1A8816#32
  | 20 => 0xBF081334#32
  | 21 => 0xBD47E857#32
  | 22 => 0x3E84D703#32
  | 23 => 0xBF24E505#32
  | 24 => 0x3FBD69A6#32
  | 25 => 0x3E8096E6#32
  | 26 => 0x3F9BCE00#32
  | 27 => 0x3FD31CBF#32
  | 28 => 0xBF8E943E#32
  | 29 => 0xBE3C51C8#32
  | 30 => 0x3742004A#32
  | 31 => 0xBF945340#32
  | 32 => 0x3F15704A#32
  | 33 => 0xBCDD3BD0#32
  | 34 => 0x40106EC3#32
  | 35 => 0x3F8585B0#32
  | 36 => 0x3F7F27A2#32
  | 37 => 0x407665B2#32
  | 38 => 0x3F991630#32
  | 39 => 0xBE85AB7B#32
  | 40 => 0xBE3C1D9E#32
  | 41 => 0xBFAD90AC#32
  | 42 => 0xBF8B8C37#32
  | 43 => 0x3F4A8AD0#32
  | 44 => 0x3F604F0C#32
  | 45 => 0x3F81F74C#32
  | 46 => 0x40444842#32
  | 47 => 0x3EEE83A0#32
  | 48 => 0x3F6307E2#32
  | 49 => 0x3F624AFE#32
  | 50 => 0x3F942324#32
  | 51 => 0xBF85F06B#32
  | 52 => 0x3F692AB8#32
  | 53 => 0x3EF8A946#32
  | 54 => 0xBF7DE528#32
  | 55 => 0x402A3850#32
  | 56 => 0x3F9DB16F#32
  | 57 => 0x3F93CC31#32
  | 58 => 0x3E5B6175#32
  | 59 => 0x3FA95462#32
  | 60 => 0x3FE41658#32
  | 61 => 0x403A4E64#32
  | 62 => 0x3EFA7FC7#32
  | 63 => 0xBF18ED33#32
  | 64 => 0x3F673CA4#32
  | 65 => 0xBFBE8406#32
  | 66 => 0x3E62D222#32
  | 67 => 0x4026B1D2#32
  | 68 => 0xBF02DCF6#32
  | 69 => 0xBFB11670#32
  | 70 => 0x3C545A88#32
  | 71 => 0x3FBEF947#32
  | 72 => 0xBD8DCC16#32
  | 73 => 0xBF3A5658#32
  | 74 => 0xBF331B54#32
  | 75 => 0xBE897232#32
  | 76 => 0xBD118593#32
  | 77 => 0xBFA13F6C#32
  | 78 => 0xBFDF78F4#32
  | 79 => 0xBF3F69FB#32
  | 80 => 0xBF65940E#32
  | 81 => 0xBF835EF1#32
  | 82 => 0x4042370F#32
  | 83 => 0xBFA49F84#32
  | 84 => 0x3FDFF026#32
  | 85 => 0x3E2C96D0#32
  | 86 => 0xBE83EA65#32
  | 87 => 0x3FA1A96F#32
  | 88 => 0xBDDC3448#32
  | 89 => 0x3E8D27A1#32
  | 90 => 0x4050CC34#32
  | 91 => 0x40107D95#32
  | 92 => 0xBFB95EAE#32
  | 93 => 0x3FB5B5E2#32
  | 94 => 0xBF263480#32
  | 95 => 0x3DCA986D#32
  | 96 => 0x40028722#32
  | 97 => 0xBE2CE013#32
  | 98 => 0x3FB39AC1#32
  | 99 => 0x3E5CBECB#32
  | 100 => 0xBE0BBDA3#32
  | 101 => 0x3F36C2A0#32
  | 102 => 0x3E7B78DD#32
  | 103 => 0x3EA75E5F#32
  | 104 => 0x3CF54063#32
  | 105 => 0x4035EC83#32
  | 106 => 0xBF99AC8A#32
  | 107 => 0x3E267C31#32
  | 108 => 0xBF0C7E22#32
  | 109 => 0x4041D533#32
  | 110 => 0x3FB9DAD9#32
  | 111 => 0x3DEF74C5#32
  | 112 => 0x3F64BD78#32
  | 113 => 0xBF728EB0#32
  | 114 => 0xBEE7F7E3#32
  | 115 => 0xBE94EAD3#32
  | 116 => 0x3E05F33F#32
  | 117 => 0xBF662049#32
  | 118 => 0xBFC973CD#32
  | 119 => 0xBCC114A5#32
  | 120 => 0xBF535AB7#32
  | 121 => 0xBEA3C955#32
  | 122 => 0xBF801CDA#32
  | 123 => 0x3E9F8B99#32
  | 124 => 0x3F2AC8D9#32
  | 125 => 0x3ECB02E1#32
  | 126 => 0x3F97CA8A#32
  | 127 => 0x3F5641EC#32
  | _ => 0#32

noncomputable abbrev lit0t0_19 (i : Nat) : BitVec 32 := match i % 128 with
  | 0 => 0xBF20A8C8#32
  | 1 => 0xBE986AAE#32
  | 2 => 0xBF8D84DD#32
  | 3 => 0xBEFA1D8C#32
  | 4 => 0x3FFE88BA#32
  | 5 => 0x3DA3B7FA#32
  | 6 => 0xBE8E4B90#32
  | 7 => 0xBD39FA19#32
  | 8 => 0xBF3FD6A6#32
  | 9 => 0xBFA24F63#32
  | 10 => 0xBE496954#32
  | 11 => 0xBF8C4062#32
  | 12 => 0x3F6C2D6E#32
  | 13 => 0xBF532CB1#32
  | 14 => 0xBDEEDAB7#32
  | 15 => 0xBEC73DA1#32
  | 16 => 0xBF765B72#32
  | 17 => 0xBF2819C2#32
  | 18 => 0x3F57D606#32
  | 19 => 0x3FC69501#32
  | 20 => 0xBE56B788#32
  | 21 => 0x3FDA53B2#32
  | 22 => 0x3E9D036E#32
  | 23 => 0x3DE524DC#32
  | 24 => 0x3EEA1CEE#32
  | 25 => 0xBF32E767#32
  | 26 => 0x3D74E981#32
  | 27 => 0xBE953BD5#32
  | 28 => 0x3DC179E9#32
  | 29 => 0x3F8CF436#32
  | 30 => 0x3FF1F3D8#32
  | 31 => 0x40255825#32
  | 32 => 0x3F19B8B1#32
  | 33 => 0x3F33B1C3#32
  | 34 => 0xBF322FAC#32
  | 35 => 0x3F41D9A1#32
  | 36 => 0x3E8D06D4#32
  | 37 => 0xBEADB199#32
  | 38 => 0x3E9E426D#32
  | 39 => 0x3F6B8643#32
  | 40 => 0x3F311A3B#32
  | 41 => 0x3F7E74F7#32
  | 42 => 0xBF59A6D9#32
  | 43 => 0xBE98CC61#32
  | 44 => 0x40A90B89#32
  | 45 => 0xBF6FB2B5#32
  | 46 => 0x3E675505#32
  | 47 => 0x40332206#32
  | 48 => 0x3ECF17DE#32
  | 49 => 0x3F008C0D#32
  | 50 => 0xBF00366C#32
  | 51 => 0x3F536958#32
  | 52 => 0x3F532EAB#32
  | 53 => 0xBE0A5178#32
  | 54 => 0x3F9B525E#32
  | 55 => 0xBF5FF722#32
  | 56 => 0xBF4DB7AE#32
  | 57 => 0x401517A2#32
  | 58 => 0x40365DA4#32
  | 59 => 0x3FD142C8#32
  | 60 => 0xBECC35EA#32
  | 61 => 0x3E9346EE#32
  | 62 => 0x401F124B#32
  | 63 => 0xBC5D5688#32
  | 64 => 0x3EC2C144#32
  | 65 => 0x3F55F0F2#32
  | 66 => 0x3FA1D37F#32
  | 67 => 0x4079A807#32
  | 68 => 0xBF0C19ED#32
  | 69 => 0x3E8D9FA7#32
  | 70 => 0x3F8AE526#32
  | 71 => 0xBEAA95C2#32
  | 72 => 0xBECE78E3#32
  | 73 => 0x3EC35713#32
  | 74 => 0x3E9FCCED#32
  | 75 => 0xBF8EECFE#32
  | 76 => 0x3F29722B#32
  | 77 => 0x3C067153#32
  | 78 => 0x3EEC402A#32
  | 79 => 0x3EE101AF#32
  | 80 => 0x3FD70BBE#32
  | 81 => 0x3F4517E2#32
  | 82 => 0x3F45CA41#32
  | 83 => 0xBFAA7D76#32
  | 84 => 0x4028D563#32
  | 85 => 0xBFAFFA09#32
  | 86 => 0x4032687E#32
  | 87 => 0xBE9894E1#32
  | 88 => 0xBD271671#32
  | 89 => 0x3F9BBD6F#32
  | 90 => 0xBF7B4FCE#32
  | 91 => 0x3F535A40#32
  | 92 => 0x3E8186F5#32
  | 93 => 0x3F90BDCE#32
  | 94 => 0x3EEC6DA4#32
  | 95 => 0x3F897962#32
  | 96 => 0x3EAD265E#32
  | 97 => 0x3F9C5ED8#32
  | 98 => 0x402F04A0#32
  | 99 => 0x3D29C582#32
  | 100 => 0x3F99498A#32
  | 101 => 0xBDC952B9#32
  | 102 => 0xBF7FDF14#32
  | 103 => 0xBF981AF3#32
  | 104 => 0xBE4670C0#32
  | 105 => 0x40731F3A#32
  | 106 => 0x3F006D22#32
  | 107 => 0x3F53047C#32
  | 108 => 0x3FD88198#32
  | 109 => 0x3F16C767#32
  | 110 => 0x3F91BF31#32
  | 111 => 0x3DB7A945#32
  | 112 => 0xBD961C24#32
  | 113 => 0xBF72FCCC#32
  | 114 => 0xBF1824E6#32
  | 115 => 0x40105562#32
  | 116 => 0x3D93702A#32
  | 117 => 0xBEA315D2#32
  | 118 => 0x3F87644C#32
  | 119 => 0x3F4AF2AA#32
  | 120 => 0x3FF7E2D7#32
  | 121 => 0x404E3FF9#32
  | 122 => 0x3F7EE212#32
  | 123 => 0x402EC349#32
  | 124 => 0x3FDB38E3#32
  | 125 => 0xBEB64B4D#32
  | 126 => 0xBC3EE5B1#32
  | 127 => 0x400D332F#32
  | _ => 0#32

noncomputable abbrev lit0t0_20 (i : Nat) : BitVec 32 := match i % 128 with
  | 0 => 0x3CA4F03C#32
  | 1 => 0xBF70283C#32
  | 2 => 0x3E1C96E8#32
  | 3 => 0x3EBABCD9#32
  | 4 => 0xBD801B42#32
  | 5 => 0x3F4F5952#32
  | 6 => 0xBF3C4EF0#32
  | 7 => 0xBF30E0E3#32
  | 8 => 0xBF390DD6#32
  | 9 => 0x3EBEEB0B#32
  | 10 => 0x3F3D71CE#32
  | 11 => 0xBE21EDF8#32
  | 12 => 0x3F4DA7CA#32
  | 13 => 0x3FF49FE9#32
  | 14 => 0x405F564D#32
  | 15 => 0xBFDDAA70#32
  | 16 => 0x4076856A#32
  | 17 => 0xBEEB36AE#32
  | 18 => 0x402CC402#32
  | 19 => 0x405618DA#32
  | 20 => 0x3EA57AA7#32
  | 21 => 0x3DA90A4E#32
  | 22 => 0x3F5A38BE#32
  | 23 => 0xBF9F39D3#32
  | 24 => 0xBF469712#32
  | 25 => 0xBFDE942C#32
  | 26 => 0x4049E67C#32
  | 27 => 0xBFA1CD22#32
  | 28 => 0x3F01DAED#32
  | 29 => 0xBF4CC234#32
  | 30 => 0x4038ED48#32
  | 31 => 0x3EE71131#32
  | 32 => 0x3EC79672#32
  | 33 => 0x3DA84365#32
  | 34 => 0xBF92DEF1#32
  | 35 => 0x3E5681D1#32
  | 36 => 0x3F64269A#32
  | 37 => 0xBE937626#32
  | 38 => 0x3E83348A#32
  | 39 => 0x3F18A8F6#32
  | 40 => 0xBF48B078#32
  | 41 => 0x3DDF2B89#32
  | 42 => 0x3F9B5B17#32
  | 43 => 0xBF1D1918#32
  | 44 => 0x3FA229FE#32
  | 45 => 0x3F812108#32
  | 46 => 0x3EE38E64#32
  | 47 => 0x3E8A4DCA#32
  | 48 => 0x3E98D142#32
  | 49 => 0x4080CBF4#32
  | 50 => 0xBF677E54#32
  | 51 => 0x401E2764#32
  | 52 => 0xBECA2BEC#32
  | 53 => 0x3E99FD80#32
  | 54 => 0x401EE8D2#32
  | 55 => 0xBF0E7EE3#32
  | 56 => 0x3F29A84A#32
  | 57 => 0x3E191C1C#32
  | 58 => 0x3F80236C#32
  | 59 => 0x3F4B9AD1#32
  | 60 => 0x3CFEA7DB#32
  | 61 => 0x3F86BEDC#32
  | 62 => 0xBDC7661B#32
  | 63 => 0x3FB5A92B#32
  | 64 => 0xBF649301#32
  | 65 => 0xBF54CC7E#32
  | 66 => 0x3FCEE25C#32
  | 67 => 0x3F19275B#32
  | 68 => 0x3F1763A0#32
  | 69 => 0xBF4A1843#32
  | 70 => 0xBEAA00FE#32
  | 71 => 0xBFBC7942#32
  | 72 => 0x400418D0#32
  | 73 => 0x3F8BB137#32
  | 74 => 0x3FADD6D9#32
  | 75 => 0x3F7061B7#32
  | 76 => 0xBF2A081A#32
  | 77 => 0x3EE06136#32
  | 78 => 0x3F48CFEA#32
  | 79 => 0xBEEA82FD#32
  | 80 => 0xBF038444#32
  | 81 => 0xBF01044D#32
  | 82 => 0x400D4D1A#32
  | 83 => 0x3E09DD9D#32
  | 84 => 0xBF259385#32
  | 85 => 0xBEE688E5#32
  | 86 => 0xBF792862#32
  | 87 => 0xBCD1D8C8#32
  | 88 => 0x3C484E2E#32
  | 89 => 0x3EA96790#32
  | 90 => 0x3F49F26C#32
  | 91 => 0x3F4FDE11#32
  | 92 => 0xBE9AA84B#32
  | 93 => 0xBF55EFE8#32
  | 94 => 0x3FD793D0#32
  | 95 => 0x3F7BD600#32
  | 96 => 0xBF1ED415#32
  | 97 => 0xBF4C165B#32
  | 98 => 0xBD9F32F0#32
  | 99 => 0x3E9F49D5#32
  | 100 => 0x3FCCB52B#32
  | 101 => 0x3F71D35B#32
  | 102 => 0x3EDA1C9D#32
  | 103 => 0x3F1BB679#32
  | 104 => 0x3FC4F201#32
  | 105 => 0x3EF71201#32
  | 106 => 0x3DA6456E#32
  | 107 => 0x3F1DC3EC#32
  | 108 => 0x3CDB19F1#32
  | 109 => 0x4021E1C0#32
  | 110 => 0xBF170F7A#32
  | 111 => 0xBE6E266A#32
  | 112 => 0xBF12ED22#32
  | 113 => 0x403C3CA0#32
  | 114 => 0xBE52C646#32
  | 115 => 0x4000C443#32
  | 116 => 0x3E94726D#32
  | 117 => 0x3E2B2E1B#32
  | 118 => 0x401B9FE8#32
  | 119 => 0xBB93175C#32
  | 120 => 0x3FB3330C#32
  | 121 => 0xBF54208B#32
  | 122 => 0x3E85186B#32
  | 123 => 0xBEEACE72#32
  | 124 => 0x3FBAC3BE#32
  | 125 => 0x3E9E85B4#32
  | 126 => 0x3F3704D1#32
  | 127 => 0x3FA69E44#32
  | _ => 0#32

noncomputable abbrev lit0t0_21 (i : Nat) : BitVec 32 := match i % 128 with
  | 0 => 0xBED87D2C#32
  | 1 => 0x3FFC943C#32
  | 2 => 0xBF7388F8#32
  | 3 => 0x3E490CA9#32
  | 4 => 0x402379AD#32
  | 5 => 0xBF1F3836#32
  | 6 => 0x3EFE210F#32
  | 7 => 0x3FFB628C#32
  | 8 => 0xBF3698F8#32
  | 9 => 0x3D5D5727#32
  | 10 => 0xBE48377F#32
  | 11 => 0xBF144B3D#32
  | 12 => 0x4008F53B#32
  | 13 => 0x4047C4E2#32
  | 14 => 0x3F1C58AA#32
  | 15 => 0x3F2B4F86#32
  | 16 => 0x3E4E0BF7#32
  | 17 => 0x3F4C4C01#32
  | 18 => 0x3B39E06B#32
  | 19 => 0xBEAEFA71#32
  | 20 => 0x409CB7C0#32
  | 21 => 0x4081E018#32
  | 22 => 0xBE932092#32
  | 23 => 0x408806B8#32
  | 24 => 0xBFA99A9F#32
  | 25 => 0x3F6E9A6E#32
  | 26 => 0xBE365810#32
  | 27 => 0x3F213208#32
  | 28 => 0x3EB2B442#32
  | 29 => 0x4049F9F3#32
  | 30 => 0x402D02E9#32
  | 31 => 0x3F8C4AF4#32
  | 32 => 0xBEF61E53#32
  | 33 => 0x3F7E6DB0#32
  | 34 => 0x3FB18C37#32
  | 35 => 0xBF68CEFA#32
  | 36 => 0x3FD70650#32
  | 37 => 0x3FD07A76#32
  | 38 => 0xBD5AB249#32
  | 39 => 0xBF4CA30E#32
  | 40 => 0x3FC8B6A3#32
  | 41 => 0x3E777463#32
  | 42 => 0xBF088B28#32
  | 43 => 0xBF0FCE03#32
  | 44 => 0xBF069BB5#32
  | 45 => 0x3E3B979B#32
  | 46 => 0xBFA4BBBA#32
  | 47 => 0xBEEC18C3#32
  | 48 => 0xBECA3ED1#32
  | 49 => 0x3FA3DFF2#32
  | 50 => 0x3F1E87D9#32
  | 51 => 0x3BCEB996#32
  | 52 => 0xBEE713B3#32
  | 53 => 0xBE4BAB04#32
  | 54 => 0xBE12E46A#32
  | 55 => 0xBF06EC7A#32
  | 56 => 0xBEC013D4#32
  | 57 => 0xBF2268A4#32
  | 58 => 0x4050E996#32
  | 59 => 0x3FFDF98C#32
  | 60 => 0x3FED8438#32
  | 61 => 0x3ECFFAED#32
  | 62 => 0xBE105C10#32
  | 63 => 0x3E88A05D#32
  | 64 => 0xBD56C212#32
  | 65 => 0x400137D1#32
  | 66 => 0x3E9BAD68#32
  | 67 => 0x3FCD20AA#32
  | 68 => 0x3D95DFEE#32
  | 69 => 0x3F8520CE#32
  | 70 => 0xBEEBA178#32
  | 71 => 0x3F0A3BB8#32
  | 72 => 0x3FEE1FF5#32
  | 73 => 0x3ED9D55C#32
  | 74 => 0xBF80FFEA#32
  | 75 => 0x40120EB9#32
  | 76 => 0x3F5525E8#32
  | 77 => 0x3FCAC82A#32
  | 78 => 0xBE37306A#32
  | 79 => 0xBF063FD8#32
  | 80 => 0x3F3E5D13#32
  | 81 => 0x3DBEE446#32
  | 82 => 0x3FDC9F01#32
  | 83 => 0xBED72100#32
  | 84 => 0x401D4B55#32
  | 85 => 0x3F5866E4#32
  | 86 => 0xBF61A8C5#32
  | 87 => 0xBF17E0EE#32
  | 88 => 0xBF018DF6#32
  | 89 => 0x3D1CB3BB#32
  | 90 => 0xBF412AD1#32
  | 91 => 0x3FFC0825#32
  | 92 => 0x3E58683E#32
  | 93 => 0x3E4B7038#32
  | 94 => 0xBF01F9E8#32
  | 95 => 0x40373E93#32
  | 96 => 0xBF67B718#32
  | 97 => 0x40498D74#32
  | 98 => 0x3FB9DB91#32
  | 99 => 0x3F2282C4#32
  | 100 => 0x3F86B34C#32
  | 101 => 0xBF315EB8#32
  | 102 => 0xBE985EC3#32
  | 103 => 0x40801B6D#32
  | 104 => 0x4023ADD4#32
  | 105 => 0x3C2CDCA1#32
  | 106 => 0xBFC32256#32
  | 107 => 0x3FF2F801#32
  | 108 => 0xBF98442B#32
  | 109 => 0x40998A48#32
  | 110 => 0x3FA64643#32
  | 111 => 0x3F81A80C#32
  | 112 => 0x3FF189ED#32
  | 113 => 0x3F4B1712#32
  | 114 => 0x3EE88D02#32
  | 115 => 0x3DD03C62#32
  | 116 => 0x3E992BE1#32
  | 117 => 0x3F81AB43#32
  | 118 => 0x3FBBCC2B#32
  | 119 => 0x3F086C3E#32
  | 120 => 0xBEBBEEF4#32
  | 121 => 0x3FCCD2C8#32
  | 122 => 0x3FB72D94#32
  | 123 => 0x4003FC07#32
  | 124 => 0xBF0911F8#32
  | 125 => 0xBEC379CC#32
  | 126 => 0x3EF2E47B#32
  | 127 => 0x3F2686B3#32
  | _ => 0#32

noncomputable abbrev lit0t0_22 (i : Nat) : BitVec 32 := match i % 128 with
  | 0 => 0x400A268B#32
  | 1 => 0x3FC8C63E#32
  | 2 => 0xBEF2C2DE#32
  | 3 => 0x3F00DD92#32
  | 4 => 0x3FAFBBB0#32
  | 5 => 0x3EF40B91#32
  | 6 => 0xBE947EEC#32
  | 7 => 0xBE97005B#32
  | 8 => 0xBE289657#32
  | 9 => 0x3FC21DE5#32
  | 10 => 0x3F0AAE61#32
  | 11 => 0x3F0BC60C#32
  | 12 => 0xBEEBD6AA#32
  | 13 => 0x3F8D0BBA#32
  | 14 => 0x408878FF#32
  | 15 => 0xBE517940#32
  | 16 => 0x3EA59ED8#32
  | 17 => 0x3E86B05F#32
  | 18 => 0x3FA19E91#32
  | 19 => 0xBEA7010F#32
  | 20 => 0x3F1E72E9#32
  | 21 => 0xBFA30F97#32
  | 22 => 0xBF7D9CE6#32
  | 23 => 0x3ED192D7#32
  | 24 => 0xBF25194B#32
  | 25 => 0xBE9CCEAB#32
  | 26 => 0x3F40AED7#32
  | 27 => 0xBDC0FE39#32
  | 28 => 0x3ECE1734#32
  | 29 => 0xBFEC9692#32
  | 30 => 0x407BD7AD#32
  | 31 => 0x3F0E088C#32
  | 32 => 0x4000E876#32
  | 33 => 0xBD360990#32
  | 34 => 0x3F5206D1#32
  | 35 => 0x3F06D821#32
  | 36 => 0x40208643#32
  | 37 => 0x3EAF440B#32
  | 38 => 0x406EFEF1#32
  | 39 => 0xBDB87878#32
  | 40 => 0x3EBE4EE9#32
  | 41 => 0xBF084339#32
  | 42 => 0xBFB8331E#32
  | 43 => 0x3D3FE55E#32
  | 44 => 0x3FCF9386#32
  | 45 => 0x40083F94#32
  | 46 => 0xBF30CEEB#32
  | 47 => 0x40319D90#32
  | 48 => 0xBF19C9A8#32
  | 49 => 0x3D9C42B0#32
  | 50 => 0x3FF75571#32
  | 51 => 0xBEB3D126#32
  | 52 => 0x3F576F25#32
  | 53 => 0xBFBF8C79#32
  | 54 => 0x3F7655B4#32
  | 55 => 0x3F4F215A#32
  | 56 => 0x3F23DFF2#32
  | 57 => 0xBE91C4BF#32
  | 58 => 0xBF551264#32
  | 59 => 0x3F1B330E#32
  | 60 => 0x40CDD326#32
  | 61 => 0xBED95F90#32
  | 62 => 0x3FDBDF8F#32
  | 63 => 0x3E917BE0#32
  | 64 => 0xBF9D01EB#32
  | 65 => 0xBF5DBFC2#32
  | 66 => 0x3EA111D7#32
  | 67 => 0x3D0BE18F#32
  | 68 => 0xBDA334A1#32
  | 69 => 0xBE6A97A4#32
  | 70 => 0x3FC71E3D#32
  | 71 => 0xBECEBAFA#32
  | 72 => 0x405435B2#32
  | 73 => 0xBFAD5A91#32
  | 74 => 0x3EFCDCB8#32
  | 75 => 0x40251885#32
  | 76 => 0x3F220C36#32
  | 77 => 0xBF19F5EE#32
  | 78 => 0x409942B3#32
  | 79 => 0x3E9B0F39#32
  | 80 => 0x402C7A3A#32
  | 81 => 0xBF1F5FF5#32
  | 82 => 0x3EA95B9C#32
  | 83 => 0xBF1C64DE#32
  | 84 => 0x3F8C49D8#32
  | 85 => 0x3F885AD8#32
  | 86 => 0xBEB6140E#32
  | 87 => 0xBEC5F97A#32
  | 88 => 0x3FA87BDE#32
  | 89 => 0x400BA4F1#32
  | 90 => 0xBF5689A0#32
  | 91 => 0xBEAED31F#32
  | 92 => 0xBFA803AE#32
  | 93 => 0x3FFF6753#32
  | 94 => 0x3FF2661B#32
  | 95 => 0xBE952048#32
  | 96 => 0x403B7662#32
  | 97 => 0xBF643B66#32
  | 98 => 0xBEFEE169#32
  | 99 => 0x3F2496E7#32
  | 100 => 0x3ED01E5B#32
  | 101 => 0x400EB52C#32
  | 102 => 0x3FC6F9FB#32
  | 103 => 0xBE9AE045#32
  | 104 => 0x3F516029#32
  | 105 => 0xBE84E787#32
  | 106 => 0xBFBA6DAB#32
  | 107 => 0xBFA03473#32
  | 108 => 0x4013CF07#32
  | 109 => 0x3E89FDDE#32
  | 110 => 0xBF3D3D9A#32
  | 111 => 0xBF62BF2A#32
  | 112 => 0xBF12E907#32
  | 113 => 0x3F3DB8B3#32
  | 114 => 0xBFE83C7E#32
  | 115 => 0x3F754FF8#32
  | 116 => 0x3E29C0BF#32
  | 117 => 0x3FB87ECA#32
  | 118 => 0x3FCBB008#32
  | 119 => 0x3E65AAB2#32
  | 120 => 0x3F691A48#32
  | 121 => 0x40296ADD#32
  | 122 => 0x3FE4D804#32
  | 123 => 0xBF6E37C8#32
  | 124 => 0x3E9B50F0#32
  | 125 => 0x3F64FF92#32
  | 126 => 0xBEAD9774#32
  | 127 => 0x3ED4F1D5#32
  | _ => 0#32

noncomputable abbrev lit0t0_23 (i : Nat) : BitVec 32 := match i % 128 with
  | 0 => 0x3F8C6E1F#32
  | 1 => 0x3F24ADF6#32
  | 2 => 0x3F6E0006#32
  | 3 => 0x3FA18919#32
  | 4 => 0x3E4C7F18#32
  | 5 => 0xBF141776#32
  | 6 => 0x3F809DC5#32
  | 7 => 0x400A109D#32
  | 8 => 0xBEFBB89B#32
  | 9 => 0x3D20305A#32
  | 10 => 0xBDC31E2A#32
  | 11 => 0x3CCE8FDE#32
  | 12 => 0xBF8F85C9#32
  | 13 => 0x3DAECE72#32
  | 14 => 0x3F51BA39#32
  | 15 => 0x3EB6F275#32
  | 16 => 0x3E185CC0#32
  | 17 => 0xBF1085CC#32
  | 18 => 0xBDD00852#32
  | 19 => 0xBFD7D2EE#32
  | 20 => 0x3EF870B4#32
  | 21 => 0x3DEB6651#32
  | 22 => 0x3E5823E1#32
  | 23 => 0x3D3CFB16#32
  | 24 => 0x3FA3F85F#32
  | 25 => 0x3E947D26#32
  | 26 => 0x3EB8DD25#32
  | 27 => 0xBF2F5E2D#32
  | 28 => 0x3DB5D1B4#32
  | 29 => 0xBEA13B57#32
  | 30 => 0xBE8496AB#32
  | 31 => 0xBC64AA19#32
  | 32 => 0xBF5C5F2E#32
  | 33 => 0xBFD78FE2#32
  | 34 => 0xBF2BEE49#32
  | 35 => 0x3FC70EC4#32
  | 36 => 0xBE29EC78#32
  | 37 => 0x3FB8E9A9#32
  | 38 => 0xBFB11C77#32
  | 39 => 0x3F9D1ED0#32
  | 40 => 0xBFCCA1B2#32
  | 41 => 0x3E2D5636#32
  | 42 => 0x3E8E9AD1#32
  | 43 => 0x3F5F951C#32
  | 44 => 0xBEFCB1BA#32
  | 45 => 0x3F8082FD#32
  | 46 => 0xBF46F915#32
  | 47 => 0x3F99978A#32
  | 48 => 0xBE3883A9#32
  | 49 => 0xBDD11F1F#32
  | 50 => 0xBF531EF2#32
  | 51 => 0x3F5F881A#32
  | 52 => 0x3E6E5B46#32
  | 53 => 0xBF227217#32
  | 54 => 0x3EDEB209#32
  | 55 => 0x3E0622DF#32
  | 56 => 0x3F8BE1E0#32
  | 57 => 0xBF9F4AA6#32
  | 58 => 0x3DC889D9#32
  | 59 => 0x402064AC#32
  | 60 => 0x3F62A636#32
  | 61 => 0x3E9C5EFE#32
  | 62 => 0x3F4AA52C#32
  | 63 => 0x3F39F983#32
  | 64 => 0xBF06B570#32
  | 65 => 0x40089975#32
  | 66 => 0xBE22B314#32
  | 67 => 0xBF03C35E#32
  | 68 => 0x3DEFA243#32
  | 69 => 0xBF5C2C38#32
  | 70 => 0xBF8D8C8E#32
  | 71 => 0x3EBC5E7B#32
  | 72 => 0x3F947912#32
  | 73 => 0xBE8B6DE9#32
  | 74 => 0x3FAF20F3#32
  | 75 => 0x40842798#32
  | 76 => 0x400D2CB1#32
  | 77 => 0x3EAE9EF5#32
  | 78 => 0x3EFEAF34#32
  | 79 => 0xBE499826#32
  | 80 => 0x3FA6B027#32
  | 81 => 0x3FA9E5DD#32
  | 82 => 0xBE90FF7A#32
  | 83 => 0x3FC72716#32
  | 84 => 0xBE89BDAD#32
  | 85 => 0x3F7AB1A2#32
  | 86 => 0x40078389#32
  | 87 => 0x3F326B0F#32
  | 88 => 0x3FF668B3#32
  | 89 => 0x3D8EC9BC#32
  | 90 => 0x3FBD2DEE#32
  | 91 => 0x3D6C3931#32
  | 92 => 0x3D642615#32
  | 93 => 0xBD851F17#32
  | 94 => 0xBE3A6F15#32
  | 95 => 0x3F2C97C2#32
  | 96 => 0x3E3D3E9E#32
  | 97 => 0xBF1FECF4#32
  | 98 => 0x3F7272FA#32
  | 99 => 0x3F1135CC#32
  | 100 => 0x3F100571#32
  | 101 => 0xBF972D6A#32
  | 102 => 0x3FE6CE9A#32
  | 103 => 0x3E3C75AA#32
  | 104 => 0xBF35AA02#32
  | 105 => 0x3F0CAD3F#32
  | 106 => 0x3FB492CE#32
  | 107 => 0xBE6A07D0#32
  | 108 => 0x3E14B884#32
  | 109 => 0x3F2139D9#32
  | 110 => 0x3FD32C32#32
  | 111 => 0x3FF206CC#32
  | 112 => 0x40297D28#32
  | 113 => 0x3FF7B276#32
  | 114 => 0x3F6F5C29#32
  | 115 => 0xBF86BAE0#32
  | 116 => 0xBF4528ED#32
  | 117 => 0x3FC340B5#32
  | 118 => 0x3FD9AF26#32
  | 119 => 0xBF8CECEE#32
  | 120 => 0x3FA9BA3C#32
  | 121 => 0x4000D9D0#32
  | 122 => 0x3F56A37F#32
  | 123 => 0xBF74DB26#32
  | 124 => 0x3E28298F#32
  | 125 => 0x4013B706#32
  | 126 => 0x3FC79447#32
  | 127 => 0x400D1809#32
  | _ => 0#32

noncomputable abbrev lit0t0_24 (i : Nat) : BitVec 32 := match i % 128 with
  | 0 => 0x3E8A345C#32
  | 1 => 0x3FB9F0EA#32
  | 2 => 0xBD86D1F0#32
  | 3 => 0x3F0C4840#32
  | 4 => 0x3F61BF55#32
  | 5 => 0x3E93F0D6#32
  | 6 => 0xBEEFC08E#32
  | 7 => 0x3FB00C7C#32
  | 8 => 0x3F9649C9#32
  | 9 => 0x3E9F52D8#32
  | 10 => 0x3FBA72DE#32
  | 11 => 0x3FBCA76F#32
  | 12 => 0xBEE4B7F1#32
  | 13 => 0xBF0A0612#32
  | 14 => 0x3E29206B#32
  | 15 => 0xBF840398#32
  | 16 => 0x3F3B0A45#32
  | 17 => 0x3F2D7F1E#32
  | 18 => 0x3EB29A1C#32
  | 19 => 0xBF640DB0#32
  | 20 => 0xBF059DC5#32
  | 21 => 0xBF2FC26F#32
  | 22 => 0xBF856260#32
  | 23 => 0x3F2B8AE9#32
  | 24 => 0x3ECC2FCC#32
  | 25 => 0x4017DB11#32
  | 26 => 0x3FF63514#32
  | 27 => 0x3F988EDC#32
  | 28 => 0xBF3E4FBF#32
  | 29 => 0x3D7583A6#32
  | 30 => 0x3D4EE987#32
  | 31 => 0x3F95D5B5#32
  | 32 => 0xBE4B4BC4#32
  | 33 => 0xBEF18121#32
  | 34 => 0x401F3DB3#32
  | 35 => 0x407D7779#32
  | 36 => 0x3F4AE736#32
  | 37 => 0x3EA1E356#32
  | 38 => 0xBA6E7C38#32
  | 39 => 0x3F6F524A#32
  | 40 => 0xBEA8B551#32
  | 41 => 0x3FFFF8C9#32
  | 42 => 0xBE52D7AC#32
  | 43 => 0x3FCC18FC#32
  | 44 => 0x3F874C68#32
  | 45 => 0x3EB0FD25#32
  | 46 => 0xBF8C19BD#32
  | 47 => 0x3F74A912#32
  | 48 => 0x402EEE02#32
  | 49 => 0xBFAB60A1#32
  | 50 => 0xBFAA0032#32
  | 51 => 0xBF86809C#32
  | 52 => 0x3CEC80DE#32
  | 53 => 0x404B1808#32
  | 54 => 0xBFAB3361#32
  | 55 => 0x3D994253#32
  | 56 => 0x3F640A54#32
  | 57 => 0x4003B923#32
  | 58 => 0x3FE46528#32
  | 59 => 0xBEB5AC04#32
  | 60 => 0xBF08D6EC#32
  | 61 => 0xBEA16241#32
  | 62 => 0x3EA222A9#32
  | 63 => 0xBEEF57EA#32
  | 64 => 0x4089A473#32
  | 65 => 0xBF543882#32
  | 66 => 0xBF73C2CB#32
  | 67 => 0x3EA88914#32
  | 68 => 0x3FF1B891#32
  | 69 => 0xBE1C4137#32
  | 70 => 0xBEE3EB69#32
  | 71 => 0xBEEFBBC4#32
  | 72 => 0xBF2AA8DD#32
  | 73 => 0x3FFF1F69#32
  | 74 => 0xBF91E480#32
  | 75 => 0x3FDE8353#32
  | 76 => 0x4033A919#32
  | 77 => 0xBF17B2BC#32
  | 78 => 0x408AA1D1#32
  | 79 => 0x40179BD7#32
  | 80 => 0xBF6DDDBE#32
  | 81 => 0x3FA27C2A#32
  | 82 => 0xBF56A2C5#32
  | 83 => 0x3FAEA224#32
  | 84 => 0x3E6672B6#32
  | 85 => 0xBF7FC854#32
  | 86 => 0x3F976729#32
  | 87 => 0x3F70D834#32
  | 88 => 0x3FAADC4F#32
  | 89 => 0xBFA6A6FB#32
  | 90 => 0x3C8273E0#32
  | 91 => 0xBF9695DC#32
  | 92 => 0x3D8B3F77#32
  | 93 => 0xBF613929#32
  | 94 => 0x3F0ADB39#32
  | 95 => 0x3CEAC651#32
  | 96 => 0xBE75ED1D#32
  | 97 => 0xBF707A62#32
  | 98 => 0x3F5C017F#32
  | 99 => 0x3F449F93#32
  | 100 => 0xBED9D19F#32
  | 101 => 0x400BBDF0#32
  | 102 => 0x3FAAE6F7#32
  | 103 => 0xBE896D13#32
  | 104 => 0x3FF6C1F1#32
  | 105 => 0xBDFC1780#32
  | 106 => 0xBFE45CF9#32
  | 107 => 0x3F9C45B5#32
  | 108 => 0xBEA0F3E3#32
  | 109 => 0xBFAA6B7A#32
  | 110 => 0xBF0CD492#32
  | 111 => 0xBF62AEB6#32
  | 112 => 0xBEF487A9#32
  | 113 => 0xBF827074#32
  | 114 => 0xBEB2409D#32
  | 115 => 0xBEFB8A30#32
  | 116 => 0x3FC5241A#32
  | 117 => 0x3F114C71#32
  | 118 => 0xBE4E7D60#32
  | 119 => 0x3E21A324#32
  | 120 => 0xBF07F453#32
  | 121 => 0x3F3BAD8B#32
  | 122 => 0xBE770A6F#32
  | 123 => 0x3FC24CFB#32
  | 124 => 0x3EB917FA#32
  | 125 => 0x3F0488FA#32
  | 126 => 0xBDD550CA#32
  | 127 => 0xBE8C6181#32
  | _ => 0#32

noncomputable abbrev lit0t0_25 (i : Nat) : BitVec 32 := match i % 128 with
  | 0 => 0xBD91D3E7#32
  | 1 => 0x3F4B4449#32
  | 2 => 0x3FC0B642#32
  | 3 => 0xBF30C946#32
  | 4 => 0xBE6B0A95#32
  | 5 => 0x402BF7E2#32
  | 6 => 0x3EAD829B#32
  | 7 => 0xBDC8F85D#32
  | 8 => 0x3EAC87DF#32
  | 9 => 0xBEAB0FC7#32
  | 10 => 0x3F711BA5#32
  | 11 => 0x3F7A411A#32
  | 12 => 0x3FC68C65#32
  | 13 => 0x4014185A#32
  | 14 => 0x3EA6E716#32
  | 15 => 0xBE83EA65#32
  | 16 => 0xBED63E1C#32
  | 17 => 0x40346AD0#32
  | 18 => 0x404575C0#32
  | 19 => 0x3FD12E82#32
  | 20 => 0x3F9A56EE#32
  | 21 => 0x402995F0#32
  | 22 => 0xBF9279C9#32
  | 23 => 0xBF0EF62A#32
  | 24 => 0x40D1F30E#32
  | 25 => 0x3F10BC86#32
  | 26 => 0x3EA2C0AA#32
  | 27 => 0xBEEBBD8E#32
  | 28 => 0x3FEB56F9#32
  | 29 => 0x3D5F4BFD#32
  | 30 => 0x3FEA60CE#32
  | 31 => 0xBE6B50D9#32
  | 32 => 0xBF9A1A8A#32
  | 33 => 0x3F971D48#32
  | 34 => 0xBF2F15B1#32
  | 35 => 0xBEC48F15#32
  | 36 => 0x3F0C2D1A#32
  | 37 => 0x3ED0147E#32
  | 38 => 0xBEE57342#32
  | 39 => 0x3EA7A2DD#32
  | 40 => 0x402EC39B#32
  | 41 => 0x3EDE5FB9#32
  | 42 => 0x40308C7B#32
  | 43 => 0x3E176F39#32
  | 44 => 0xBDD8D3DC#32
  | 45 => 0xBF91E27A#32
  | 46 => 0x3F84B5C6#32
  | 47 => 0x3EA82474#32
  | 48 => 0x3F069F30#32
  | 49 => 0x402C4396#32
  | 50 => 0x3F67CBEE#32
  | 51 => 0xBFBFDADF#32
  | 52 => 0x3FC67264#32
  | 53 => 0x3E352D25#32
  | 54 => 0x3F68EAAB#32
  | 55 => 0xBF7B1D36#32
  | 56 => 0x3F2D7342#32
  | 57 => 0x3F32C69D#32
  | 58 => 0x3F86211A#32
  | 59 => 0x3F306812#32
  | 60 => 0xBEC32A60#32
  | 61 => 0x3ED60918#32
  | 62 => 0x3FB57602#32
  | 63 => 0xBE6B27B1#32
  | 64 => 0x3F98C540#32
  | 65 => 0xBF15D48D#32
  | 66 => 0xBFE2B6D2#32
  | 67 => 0x3E56552A#32
  | 68 => 0x402F07D6#32
  | 69 => 0xBEA76858#32
  | 70 => 0x402E73CA#32
  | 71 => 0xBE42B18D#32
  | 72 => 0x3EE109E7#32
  | 73 => 0xBD3A5BAF#32
  | 74 => 0x3F990DA6#32
  | 75 => 0xBD5D9DA4#32
  | 76 => 0xBDA9DD83#32
  | 77 => 0xBFC4DAE2#32
  | 78 => 0xBFE01780#32
  | 79 => 0xBF3AE8CD#32
  | 80 => 0xBEFC3A9B#32
  | 81 => 0x3FD094FA#32
  | 82 => 0x3F435197#32
  | 83 => 0xBEAB6340#32
  | 84 => 0x40736DE3#32
  | 85 => 0xBEF6439F#32
  | 86 => 0xBF4C3E60#32
  | 87 => 0x401E2FB8#32
  | 88 => 0x402C9909#32
  | 89 => 0xBDA31963#32
  | 90 => 0xBEE29B57#32
  | 91 => 0x3FC8F514#32
  | 92 => 0x3F2758AB#32
  | 93 => 0x3FE60669#32
  | 94 => 0x3E8F35C6#32
  | 95 => 0x3F2F0DFE#32
  | 96 => 0xBD170948#32
  | 97 => 0xBF25CE72#32
  | 98 => 0x3FFA37C7#32
  | 99 => 0x40234AC3#32
  | 100 => 0x3FE2B484#32
  | 101 => 0x401DF81C#32
  | 102 => 0xBE3B16E9#32
  | 103 => 0xBF537956#32
  | 104 => 0xBF77BA46#32
  | 105 => 0xBF86E16B#32
  | 106 => 0xBF0920A3#32
  | 107 => 0x3E96857C#32
  | 108 => 0x3FA7B9B1#32
  | 109 => 0x3F655D76#32
  | 110 => 0xBFA310FF#32
  | 111 => 0xBECE567A#32
  | 112 => 0x3F146E73#32
  | 113 => 0xBF7A803A#32
  | 114 => 0xBF261F8D#32
  | 115 => 0x3F31D47D#32
  | 116 => 0x3F8A60A4#32
  | 117 => 0x40186C95#32
  | 118 => 0x3EC112D6#32
  | 119 => 0x3F1224E1#32
  | 120 => 0x3F3562AD#32
  | 121 => 0xBECB3153#32
  | 122 => 0xBEF8ACF0#32
  | 123 => 0xBF1AA310#32
  | 124 => 0x3F208FC9#32
  | 125 => 0xBF4AB54C#32
  | 126 => 0x3E300B66#32
  | 127 => 0x3E10C71A#32
  | _ => 0#32

noncomputable abbrev lit0t0_26 (i : Nat) : BitVec 32 := match i % 128 with
  | 0 => 0x3CF6FC66#32
  | 1 => 0x3F111CE1#32
  | 2 => 0x3F19F852#32
  | 3 => 0x3F065DFD#32
  | 4 => 0x3F8AF372#32
  | 5 => 0x3F6D3024#32
  | 6 => 0xBF985CB0#32
  | 7 => 0xBF9C3601#32
  | 8 => 0xBF23B59C#32
  | 9 => 0xBE8AC68C#32
  | 10 => 0x3F0E85E0#32
  | 11 => 0x3F88494E#32
  | 12 => 0x3F3660CE#32
  | 13 => 0x3F57E43C#32
  | 14 => 0x3EB17E6B#32
  | 15 => 0xBF697F30#32
  | 16 => 0xBE12C725#32
  | 17 => 0x3FD44EBB#32
  | 18 => 0x40061C6E#32
  | 19 => 0x3F2B8135#32
  | 20 => 0xBEFF4E1A#32
  | 21 => 0xBE98F849#32
  | 22 => 0xBE9C77A8#32
  | 23 => 0xBF84387D#32
  | 24 => 0xBF52A9DA#32
  | 25 => 0xBD561F14#32
  | 26 => 0xBF9AAF44#32
  | 27 => 0xBFC1AA2C#32
  | 28 => 0x3E7DE7DE#32
  | 29 => 0x3F4519CA#32
  | 30 => 0xBE2D0ED2#32
  | 31 => 0xBF7BF4A8#32
  | 32 => 0x3FAD6BB8#32
  | 33 => 0x3F816740#32
  | 34 => 0xBF9C0565#32
  | 35 => 0x3E5DF9C7#32
  | 36 => 0xBF07387D#32
  | 37 => 0xBFA80EE0#32
  | 38 => 0x3F36F24E#32
  | 39 => 0x40101BD7#32
  | 40 => 0x3CBFD3E1#32
  | 41 => 0x3F4CEA26#32
  | 42 => 0x401107A3#32
  | 43 => 0x3FBC8E2E#32
  | 44 => 0x3FE43815#32
  | 45 => 0x400560A4#32
  | 46 => 0xBF98571E#32
  | 47 => 0xBF837696#32
  | 48 => 0x403BBF17#32
  | 49 => 0x3FAE5FB2#32
  | 50 => 0x3EE0C523#32
  | 51 => 0xBEE46170#32
  | 52 => 0x3EC8B329#32
  | 53 => 0xBFD55077#32
  | 54 => 0xBEC0D2E5#32
  | 55 => 0xBEF0587A#32
  | 56 => 0x3FE7C0C7#32
  | 57 => 0xBD8C2D64#32
  | 58 => 0xBF49E65B#32
  | 59 => 0xBF7CC6C5#32
  | 60 => 0x3ECEDF19#32
  | 61 => 0x3EE8A93C#32
  | 62 => 0xBE96FF9A#32
  | 63 => 0x4088B39E#32
  | 64 => 0x3FDEC228#32
  | 65 => 0x3EED8718#32
  | 66 => 0xBF4BB6F4#32
  | 67 => 0xBEB1B53A#32
  | 68 => 0x4041F96C#32
  | 69 => 0xBF58FCAE#32
  | 70 => 0xBF0B2919#32
  | 71 => 0x3E4F5B8F#32
  | 72 => 0xBF879FF1#32
  | 73 => 0x3FFA2E0E#32
  | 74 => 0x3F05211A#32
  | 75 => 0xBF42BA4A#32
  | 76 => 0xBF9B9AEE#32
  | 77 => 0x3FC41454#32
  | 78 => 0x3F6E5CA6#32
  | 79 => 0x3F9A5BAB#32
  | 80 => 0x401AB1F1#32
  | 81 => 0xBDAA3E35#32
  | 82 => 0x3FE22B32#32
  | 83 => 0x3EFAAC83#32
  | 84 => 0xBE5E103A#32
  | 85 => 0xBF67CD3A#32
  | 86 => 0xBEB931DF#32
  | 87 => 0xBF842E9D#32
  | 88 => 0x400AA4B1#32
  | 89 => 0x3E03A292#32
  | 90 => 0xBDD2DF59#32
  | 91 => 0x3E97CDDB#32
  | 92 => 0x3FB2FE60#32
  | 93 => 0x3FB3166A#32
  | 94 => 0xBE930E6F#32
  | 95 => 0xBEC7046F#32
  | 96 => 0x3FD6491A#32
  | 97 => 0x3DDE0CA4#32
  | 98 => 0x3F2AB021#32
  | 99 => 0xBF523BFF#32
  | 100 => 0xBE5F2416#32
  | 101 => 0x3F5A6F11#32
  | 102 => 0x3ED00BB8#32
  | 103 => 0xBE3626D7#32
  | 104 => 0xBF261404#32
  | 105 => 0xBF29749E#32
  | 106 => 0x3FE4E1CA#32
  | 107 => 0x3F4D57CD#32
  | 108 => 0x3F56AACA#32
  | 109 => 0xBF0A66FA#32
  | 110 => 0x3EF068AB#32
  | 111 => 0x3F2D4B3A#32
  | 112 => 0xBF22A8EE#32
  | 113 => 0xBE152F2F#32
  | 114 => 0xBEB31CD8#32
  | 115 => 0xBF00C88E#32
  | 116 => 0x3FC07BA9#32
  | 117 => 0xBF3A6154#32
  | 118 => 0x4020AB13#32
  | 119 => 0xBF7F52D2#32
  | 120 => 0x3F94BF0C#32
  | 121 => 0x3F00CA4B#32
  | 122 => 0x3F24BFCB#32
  | 123 => 0x4023822D#32
  | 124 => 0x3EA08FE7#32
  | 125 => 0x3F48FFC0#32
  | 126 => 0xBE5D14A1#32
  | 127 => 0xBE72BB8D#32
  | _ => 0#32

noncomputable abbrev lit0t0_27 (i : Nat) : BitVec 32 := match i % 128 with
  | 0 => 0x404B1846#32
  | 1 => 0xBF9EF340#32
  | 2 => 0x3E94B7C2#32
  | 3 => 0x3E18B2B0#32
  | 4 => 0x3F1A1CCC#32
  | 5 => 0xBECF7E71#32
  | 6 => 0x3FC1D4B9#32
  | 7 => 0xBEAA1CB0#32
  | 8 => 0x3F6490F4#32
  | 9 => 0xBE4F1613#32
  | 10 => 0xBEB076E2#32
  | 11 => 0x3F588F90#32
  | 12 => 0x3F119C31#32
  | 13 => 0x3EC5A2CD#32
  | 14 => 0xBEC694AC#32
  | 15 => 0x40414470#32
  | 16 => 0x3E3C06C3#32
  | 17 => 0x3F4EFB82#32
  | 18 => 0x3F18AAA3#32
  | 19 => 0x3F63B01C#32
  | 20 => 0x3EAE37D5#32
  | 21 => 0x3F17EF33#32
  | 22 => 0xBF01AE39#32
  | 23 => 0xBFA211EB#32
  | 24 => 0xBF5413AC#32
  | 25 => 0xBF7D4896#32
  | 26 => 0xBF3E7751#32
  | 27 => 0xBF83F30E#32
  | 28 => 0x3FE82794#32
  | 29 => 0x3F500D90#32
  | 30 => 0xBC505186#32
  | 31 => 0x3F81B1B3#32
  | 32 => 0x3F0365E4#32
  | 33 => 0x3F0B574B#32
  | 34 => 0xBF83FA0C#32
  | 35 => 0x40674023#32
  | 36 => 0xBE29208F#32
  | 37 => 0xBE8052EE#32
  | 38 => 0x3F6CD9CF#32
  | 39 => 0x3D4F8BC8#32
  | 40 => 0x3FCAFF13#32
  | 41 => 0xBEFA472E#32
  | 42 => 0x4036DD56#32
  | 43 => 0x3E24841F#32
  | 44 => 0x3FF7ECA2#32
  | 45 => 0xBF36D29F#32
  | 46 => 0x3E4C1E84#32
  | 47 => 0x3FDCA3BD#32
  | 48 => 0x40403E55#32
  | 49 => 0x3FEFCCFD#32
  | 50 => 0x3EC49CA9#32
  | 51 => 0x407E1959#32
  | 52 => 0x3DB3BAE5#32
  | 53 => 0xBEBDA38D#32
  | 54 => 0xBDA803DE#32
  | 55 => 0xBE96E8BD#32
  | 56 => 0x3E674827#32
  | 57 => 0x3FC371BB#32
  | 58 => 0xBF29D6C8#32
  | 59 => 0x3EED9084#32
  | 60 => 0xBEB40E42#32
  | 61 => 0x408534D2#32
  | 62 => 0x4036BD8E#32
  | 63 => 0x3FAA2887#32
  | 64 => 0x3E25877E#32
  | 65 => 0x3F98C06A#32
  | 66 => 0x3FBFBEF1#32
  | 67 => 0x3F245B09#32
  | 68 => 0x3F73DA74#32
  | 69 => 0xBEBAA414#32
  | 70 => 0x3FA00930#32
  | 71 => 0xBF57E0DF#32
  | 72 => 0xBE9833C4#32
  | 73 => 0xBF682CA3#32
  | 74 => 0x3FB594CB#32
  | 75 => 0xBFD25D2A#32
  | 76 => 0x40033FBB#32
  | 77 => 0xBFB9985E#32
  | 78 => 0xBE624291#32
  | 79 => 0x3FFEDA52#32
  | 80 => 0x3EEF5124#32
  | 81 => 0x3FBAF164#32
  | 82 => 0x402C06E0#32
  | 83 => 0x3FCEF4AA#32
  | 84 => 0x3E941751#32
  | 85 => 0xBF65F209#32
  | 86 => 0xBF5361CC#32
  | 87 => 0x402C7EB7#32
  | 88 => 0x3F61E7D9#32
  | 89 => 0x3C59CA6E#32
  | 90 => 0xBF1EE797#32
  | 91 => 0x3F9688FE#32
  | 92 => 0x3FF629E9#32
  | 93 => 0x3F8C4CD1#32
  | 94 => 0x3FA8FFB6#32
  | 95 => 0x3F485903#32
  | 96 => 0x3E5BB869#32
  | 97 => 0x3D98D3BE#32
  | 98 => 0xBF1F3F0B#32
  | 99 => 0x3DD253DE#32
  | 100 => 0x3F1EFD96#32
  | 101 => 0x3BB233D3#32
  | 102 => 0xBE342691#32
  | 103 => 0xBE6EFAB8#32
  | 104 => 0x3FD6DCD9#32
  | 105 => 0x4050CA23#32
  | 106 => 0x3FB90A07#32
  | 107 => 0x3FE97D46#32
  | 108 => 0x3E0E4B8F#32
  | 109 => 0x3F90D41C#32
  | 110 => 0xBFA8BF48#32
  | 111 => 0x401F11A8#32
  | 112 => 0xBF9940E9#32
  | 113 => 0x3F21B7D8#32
  | 114 => 0xBD477FEE#32
  | 115 => 0x3F1B6D97#32
  | 116 => 0xBE050774#32
  | 117 => 0x404F2CD9#32
  | 118 => 0x3E4A3983#32
  | 119 => 0x40743D24#32
  | 120 => 0x3F7D7DA9#32
  | 121 => 0x3E198F6E#32
  | 122 => 0xBF1C7BB9#32
  | 123 => 0x3E3A2108#32
  | 124 => 0x3ED45575#32
  | 125 => 0x3FF881CA#32
  | 126 => 0x3FE53E20#32
  | 127 => 0x3F274F5F#32
  | _ => 0#32

noncomputable abbrev lit0t0_28 (i : Nat) : BitVec 32 := match i % 128 with
  | 0 => 0xBE9AD4E0#32
  | 1 => 0x3FC3D35E#32
  | 2 => 0x3FFC8048#32
  | 3 => 0xBF387BAC#32
  | 4 => 0xBEC83549#32
  | 5 => 0x3EDE298D#32
  | 6 => 0xBEEA6182#32
  | 7 => 0x4014F81A#32
  | 8 => 0x3FB1613C#32
  | 9 => 0x3EC964A0#32
  | 10 => 0x3FEA2D40#32
  | 11 => 0x3F816907#32
  | 12 => 0xBF7D298C#32
  | 13 => 0x40117373#32
  | 14 => 0x400FA3D8#32
  | 15 => 0x40828D0F#32
  | 16 => 0xBB2210A9#32
  | 17 => 0x3FDB8DAE#32
  | 18 => 0x3FD9CCD8#32
  | 19 => 0xBE41831C#32
  | 20 => 0x3EFB35B8#32
  | 21 => 0x3D8687C9#32
  | 22 => 0xBF1E90B2#32
  | 23 => 0xBE89F18E#32
  | 24 => 0x3F8D5576#32
  | 25 => 0x3F0EE7A3#32
  | 26 => 0x3E8DB8AD#32
  | 27 => 0xBEEA31E2#32
  | 28 => 0x3E08B35E#32
  | 29 => 0x3F02EF13#32
  | 30 => 0x3F94DFED#32
  | 31 => 0x405044DD#32
  | 32 => 0x4047FE9C#32
  | 33 => 0xBF95FC1C#32
  | 34 => 0xBD7E415D#32
  | 35 => 0xBD98FB3E#32
  | 36 => 0x3EF5CE08#32
  | 37 => 0x3F6110EE#32
  | 38 => 0x3F16CB4E#32
  | 39 => 0x406739AA#32
  | 40 => 0x3F28C2D6#32
  | 41 => 0x3F5E236F#32
  | 42 => 0xBDCB12F6#32
  | 43 => 0x3FDC8226#32
  | 44 => 0x3F59C439#32
  | 45 => 0x3E93B7D7#32
  | 46 => 0x3FE5D69A#32
  | 47 => 0xBF8C1835#32
  | 48 => 0x3F8FD6A0#32
  | 49 => 0xBF3F95DF#32
  | 50 => 0xBF540E1E#32
  | 51 => 0x3F6034EE#32
  | 52 => 0x3DDD5DDE#32
  | 53 => 0x3FCBDDC4#32
  | 54 => 0xBEDF3C55#32
  | 55 => 0xBD59820D#32
  | 56 => 0xBD5B75EA#32
  | 57 => 0xBD8AD7F5#32
  | 58 => 0x3C8B2E9A#32
  | 59 => 0xBF9BA904#32
  | 60 => 0x3FE1FDA2#32
  | 61 => 0xBFAF1BEA#32
  | 62 => 0x3F4833CB#32
  | 63 => 0xBF2A0A3C#32
  | 64 => 0x3FFAB474#32
  | 65 => 0x3DC33594#32
  | 66 => 0xBF24F72C#32
  | 67 => 0x3F8098A2#32
  | 68 => 0xBF58A743#32
  | 69 => 0x4053FB72#32
  | 70 => 0xBE2FDBE8#32
  | 71 => 0x3EEA92E2#32
  | 72 => 0x3D3B1B92#32
  | 73 => 0xBDB78CB2#32
  | 74 => 0x3D6369E9#32
  | 75 => 0xBF8E713E#32
  | 76 => 0xBF9AEE27#32
  | 77 => 0xBF6F58EB#32
  | 78 => 0xBE103219#32
  | 79 => 0x3F0B7E67#32
  | 80 => 0xBFE65B80#32
  | 81 => 0x4060B805#32
  | 82 => 0x3E919182#32
  | 83 => 0x3F350B1C#32
  | 84 => 0x3D22BE40#32
  | 85 => 0x3E51FAB6#32
  | 86 => 0xBE04F221#32
  | 87 => 0x4029FB05#32
  | 88 => 0x401D4BF4#32
  | 89 => 0xBF9E18D1#32
  | 90 => 0x3FD723B0#32
  | 91 => 0xBF269BF9#32
  | 92 => 0x3E3258A3#32
  | 93 => 0xBF229525#32
  | 94 => 0x3F94E26C#32
  | 95 => 0x408AF0BF#32
  | 96 => 0x3F93F372#32
  | 97 => 0x3F559DF6#32
  | 98 => 0x3F48A52D#32
  | 99 => 0x4058D5AD#32
  | 100 => 0xBF4D72F9#32
  | 101 => 0x3D682924#32
  | 102 => 0x3EB97EB6#32
  | 103 => 0x3FD9305A#32
  | 104 => 0x40164E02#32
  | 105 => 0x3F2D4428#32
  | 106 => 0xBF4C57BA#32
  | 107 => 0xBC3E4020#32
  | 108 => 0x3F152899#32
  | 109 => 0xBED68CBC#32
  | 110 => 0x3F07E605#32
  | 111 => 0xBD62D703#32
  | 112 => 0x3F59CF95#32
  | 113 => 0xBEA8E749#32
  | 114 => 0x3F7EA8CE#32
  | 115 => 0xBE9C89C5#32
  | 116 => 0x3EBE82B5#32
  | 117 => 0xBF10B176#32
  | 118 => 0x3FB8AC74#32
  | 119 => 0x402ABF01#32
  | 120 => 0xBE031A95#32
  | 121 => 0xBE8A0396#32
  | 122 => 0xBEDAA29E#32
  | 123 => 0xBF8FC9D2#32
  | 124 => 0x40479736#32
  | 125 => 0x3F8B1F19#32
  | 126 => 0xBEAB9DBC#32
  | 127 => 0x3F8DC0BA#32
  | _ => 0#32

noncomputable abbrev lit0t0_29 (i : Nat) : BitVec 32 := match i % 128 with
  | 0 => 0xBE3D9AF9#32
  | 1 => 0x3F98EDDA#32
  | 2 => 0xBE1189B9#32
  | 3 => 0x3D89E369#32
  | 4 => 0xBE824D71#32
  | 5 => 0xBE9918B0#32
  | 6 => 0x3F542B34#32
  | 7 => 0xBEB84746#32
  | 8 => 0x3ECC288F#32
  | 9 => 0x3F5105EE#32
  | 10 => 0x3F694C68#32
  | 11 => 0x3E7B35C7#32
  | 12 => 0xBE5E9A82#32
  | 13 => 0xBF9D17F2#32
  | 14 => 0x40AF6DD6#32
  | 15 => 0x3F9B5721#32
  | 16 => 0x3F53F2CA#32
  | 17 => 0x40B88D77#32
  | 18 => 0xBEB52C36#32
  | 19 => 0x3EF12B2C#32
  | 20 => 0xBF3867FE#32
  | 21 => 0x3FB3A226#32
  | 22 => 0x3F97532E#32
  | 23 => 0x3F10CEFE#32
  | 24 => 0x3D2B7723#32
  | 25 => 0x3F73DD66#32
  | 26 => 0x3F8D7118#32
  | 27 => 0xBEDB2546#32
  | 28 => 0xBF638644#32
  | 29 => 0x3E0B7948#32
  | 30 => 0xBEB05CD0#32
  | 31 => 0xBEFF8D0C#32
  | 32 => 0x3E38AF5F#32
  | 33 => 0xBEBF43C9#32
  | 34 => 0xBFA234C2#32
  | 35 => 0xBF9F6E37#32
  | 36 => 0xBF34B66C#32
  | 37 => 0x3E9BC0EF#32
  | 38 => 0x3DAC7890#32
  | 39 => 0xBEB1E0D1#32
  | 40 => 0x3FB2DE3D#32
  | 41 => 0x3F484303#32
  | 42 => 0xBFAE2A44#32
  | 43 => 0x3D0876CB#32
  | 44 => 0xBF6E826D#32
  | 45 => 0x3E839F73#32
  | 46 => 0x3EAECBE2#32
  | 47 => 0xBF1DB873#32
  | 48 => 0xBF4BAA28#32
  | 49 => 0x3FDBD6CF#32
  | 50 => 0x3F1F0BA0#32
  | 51 => 0x40080898#32
  | 52 => 0x3F35C819#32
  | 53 => 0x3F1F0632#32
  | 54 => 0x3F6469A0#32
  | 55 => 0x40052207#32
  | 56 => 0xBF098B28#32
  | 57 => 0xBE667537#32
  | 58 => 0xBF27D46F#32
  | 59 => 0x3E04D03C#32
  | 60 => 0x3FE04EED#32
  | 61 => 0x400D3497#32
  | 62 => 0xBF00AB93#32
  | 63 => 0x406E7049#32
  | 64 => 0xBF012182#32
  | 65 => 0xBEAF7012#32
  | 66 => 0xBF163B78#32
  | 67 => 0x3B16581D#32
  | 68 => 0x3FC50F16#32
  | 69 => 0xBF2C17E6#32
  | 70 => 0x3C4C1D24#32
  | 71 => 0xBE83851C#32
  | 72 => 0xBF1B7A58#32
  | 73 => 0xBD58A6FA#32
  | 74 => 0xBE988DC8#32
  | 75 => 0x3FA5CDAE#32
  | 76 => 0xBDE59713#32
  | 77 => 0x3F17ECAB#32
  | 78 => 0x402F17C5#32
  | 79 => 0x3F4F3928#32
  | 80 => 0x3F97DF02#32
  | 81 => 0xBFB6996D#32
  | 82 => 0x3EC099BA#32
  | 83 => 0xBF90BC03#32
  | 84 => 0xBE5F7484#32
  | 85 => 0x408028BB#32
  | 86 => 0x3F2F9E5C#32
  | 87 => 0x3FCD3308#32
  | 88 => 0xBF2BFB7B#32
  | 89 => 0x3EBE65F2#32
  | 90 => 0x403C7647#32
  | 91 => 0x3E276895#32
  | 92 => 0x3B890941#32
  | 93 => 0xBE5C733E#32
  | 94 => 0x3F243E80#32
  | 95 => 0x3F398FFE#32
  | 96 => 0x3E7421FE#32
  | 97 => 0xBFB73D85#32
  | 98 => 0x3E8FAF32#32
  | 99 => 0x404E4E50#32
  | 100 => 0x3F3354E6#32
  | 101 => 0x3FC42B89#32
  | 102 => 0x3DF278F4#32
  | 103 => 0x3DBCF96C#32
  | 104 => 0xBF5BA79F#32
  | 105 => 0x3FB8D583#32
  | 106 => 0x3FA4EE64#32
  | 107 => 0x3F8FC729#32
  | 108 => 0x3F8B9FFC#32
  | 109 => 0x3F644C54#32
  | 110 => 0x4018B221#32
  | 111 => 0x3F71F817#32
  | 112 => 0xBEAD7236#32
  | 113 => 0x3FD9A785#32
  | 114 => 0xBDCAAC48#32
  | 115 => 0xBF482C89#32
  | 116 => 0x3ECC66EB#32
  | 117 => 0x3DC9E667#32
  | 118 => 0x400ACC16#32
  | 119 => 0x3FB3488A#32
  | 120 => 0xBB241560#32
  | 121 => 0x3D648F3A#32
  | 122 => 0xBF3A1E9A#32
  | 123 => 0x3F8A7DBB#32
  | 124 => 0xBF526D48#32
  | 125 => 0x3F4AB9D0#32
  | 126 => 0x3EA1FC23#32
  | 127 => 0xBF360562#32
  | _ => 0#32

noncomputable abbrev lit0t0_30 (i : Nat) : BitVec 32 := match i % 128 with
  | 0 => 0xBE2A7F01#32
  | 1 => 0x3F5565E4#32
  | 2 => 0xBD922703#32
  | 3 => 0x3EA6624A#32
  | 4 => 0xBFA978BE#32
  | 5 => 0xBF746068#32
  | 6 => 0x3E27748C#32
  | 7 => 0xBDDCCDC4#32
  | 8 => 0x3FB56554#32
  | 9 => 0x40042591#32
  | 10 => 0x3F3255F2#32
  | 11 => 0x3F145577#32
  | 12 => 0x3F055674#32
  | 13 => 0x3F9484CC#32
  | 14 => 0xBD422082#32
  | 15 => 0xBF43C9C4#32
  | 16 => 0x40209A0E#32
  | 17 => 0x3FFEC632#32
  | 18 => 0xBDBE791B#32
  | 19 => 0x3F69A821#32
  | 20 => 0x400D1828#32
  | 21 => 0x3F2E9AF1#32
  | 22 => 0x3FA00BD7#32
  | 23 => 0x3E8F5D0A#32
  | 24 => 0xBE81107E#32
  | 25 => 0xBEFD999C#32
  | 26 => 0xBEB69A27#32
  | 27 => 0x3EBA2217#32
  | 28 => 0x40DEFC65#32
  | 29 => 0xBDB91358#32
  | 30 => 0xBF61B93D#32
  | 31 => 0xBFBE095E#32
  | 32 => 0x3F876AAF#32
  | 33 => 0x3F83F8AA#32
  | 34 => 0x3EA9221A#32
  | 35 => 0xBF73B049#32
  | 36 => 0xBF804645#32
  | 37 => 0x403E4126#32
  | 38 => 0xBE62A496#32
  | 39 => 0x3F565080#32
  | 40 => 0x3FCCA76D#32
  | 41 => 0xBCC2232D#32
  | 42 => 0x4044F3A7#32
  | 43 => 0xBEB971D3#32
  | 44 => 0x3FB8C73E#32
  | 45 => 0x3F22FC00#32
  | 46 => 0xBE9C15F9#32
  | 47 => 0xBEEB2483#32
  | 48 => 0x403A092D#32
  | 49 => 0x3FC88A86#32
  | 50 => 0x3EBF2360#32
  | 51 => 0x3FEB83F3#32
  | 52 => 0x3EB416D4#32
  | 53 => 0x3D3251AA#32
  | 54 => 0xBF02A774#32
  | 55 => 0xBD0606F9#32
  | 56 => 0x3F352ED7#32
  | 57 => 0x3FBCDBE6#32
  | 58 => 0x3EF6E56E#32
  | 59 => 0x40573F88#32
  | 60 => 0x3FC98B98#32
  | 61 => 0xBF8AD8E3#32
  | 62 => 0xBF99A49F#32
  | 63 => 0x3F2DBC5C#32
  | 64 => 0x400B3FA2#32
  | 65 => 0xBF6BECA0#32
  | 66 => 0x3FE033C3#32
  | 67 => 0x3F6274E6#32
  | 68 => 0x3FA7110A#32
  | 69 => 0x3C4443FE#32
  | 70 => 0x3F39B6B7#32
  | 71 => 0x3FF4210D#32
  | 72 => 0x3E4C9AB4#32
  | 73 => 0x3F711F9C#32
  | 74 => 0x3E9062C4#32
  | 75 => 0x3D7845A2#32
  | 76 => 0xBF429C8A#32
  | 77 => 0xBF0D510A#32
  | 78 => 0xBEF95290#32
  | 79 => 0xBDE0A36D#32
  | 80 => 0x3EB053F4#32
  | 81 => 0xBE5386AE#32
  | 82 => 0x3F1B90D9#32
  | 83 => 0x3F8598E7#32
  | 84 => 0x400DCB19#32
  | 85 => 0x3FB80133#32
  | 86 => 0xBE67FB27#32
  | 87 => 0x3F6F2198#32
  | 88 => 0x3F1DCD41#32
  | 89 => 0xBDFE16B1#32
  | 90 => 0xBF4549BE#32
  | 91 => 0xBD0E921E#32
  | 92 => 0x3E5F52F3#32
  | 93 => 0x3FCF7CEF#32
  | 94 => 0x3EDA90D7#32
  | 95 => 0x3F1D526E#32
  | 96 => 0xBE0DE0A8#32
  | 97 => 0xBF3D953C#32
  | 98 => 0xBEE6F660#32
  | 99 => 0xBF04D4EB#32
  | 100 => 0x3E34E61E#32
  | 101 => 0x3E85B511#32
  | 102 => 0xBF842B4B#32
  | 103 => 0x3E774A12#32
  | 104 => 0x3F9FD05D#32
  | 105 => 0x402FBA59#32
  | 106 => 0x3EBE371F#32
  | 107 => 0x3E8A738F#32
  | 108 => 0xBF439B45#32
  | 109 => 0x3F49D70B#32
  | 110 => 0x3E57789A#32
  | 111 => 0x3FE107E4#32
  | 112 => 0x4009A88C#32
  | 113 => 0xBF2C3A68#32
  | 114 => 0xBE80D139#32
  | 115 => 0x3EEF7C13#32
  | 116 => 0x3F025C8D#32
  | 117 => 0x3DA65390#32
  | 118 => 0xBF22D482#32
  | 119 => 0x3FD9E594#32
  | 120 => 0xBF587613#32
  | 121 => 0x3EBDB14C#32
  | 122 => 0xBFAC97EF#32
  | 123 => 0x3F12AC4C#32
  | 124 => 0x3EA5EA95#32
  | 125 => 0x3EC5728B#32
  | 126 => 0x3F2A0FC7#32
  | 127 => 0xBFA9BCBA#32
  | _ => 0#32

noncomputable abbrev lit0t0_31 (i : Nat) : BitVec 32 := match i % 128 with
  | 0 => 0x3ECAC64D#32
  | 1 => 0x3CAEC294#32
  | 2 => 0x3E3BF8CB#32
  | 3 => 0x3F915AA3#32
  | 4 => 0xBFA734EE#32
  | 5 => 0xBEC295F9#32
  | 6 => 0xBF40D0BC#32
  | 7 => 0x3F4DAA16#32
  | 8 => 0x3EBF571C#32
  | 9 => 0x3FE41910#32
  | 10 => 0x3F8C7CB2#32
  | 11 => 0xBF0BD9B9#32
  | 12 => 0x3F95457C#32
  | 13 => 0xBF471C3B#32
  | 14 => 0x3FD5E170#32
  | 15 => 0x400E3876#32
  | 16 => 0xBF2F07CB#32
  | 17 => 0x3F40CB07#32
  | 18 => 0x3FFCFB8D#32
  | 19 => 0xBF57F8FC#32
  | 20 => 0xBF80D2B3#32
  | 21 => 0x3FF45F54#32
  | 22 => 0xBF00930A#32
  | 23 => 0x3EC6F7A8#32
  | 24 => 0xBE9AD8FC#32
  | 25 => 0x3F428059#32
  | 26 => 0x403B6948#32
  | 27 => 0xBF0E4EA9#32
  | 28 => 0x3F8EAA74#32
  | 29 => 0x3FED0915#32
  | 30 => 0x405210CB#32
  | 31 => 0x3F1D4574#32
  | 32 => 0xBEBD47F7#32
  | 33 => 0xBEB309DD#32
  | 34 => 0x3FB8DE21#32
  | 35 => 0xBE29F76F#32
  | 36 => 0xBF2DBC06#32
  | 37 => 0x3F50E785#32
  | 38 => 0x3FDE29C9#32
  | 39 => 0x3FC07131#32
  | 40 => 0x3FD4C024#32
  | 41 => 0x3FC3795A#32
  | 42 => 0xBEE42DE0#32
  | 43 => 0x3FB0B439#32
  | 44 => 0x3E7D9640#32
  | 45 => 0xBF2DFD8F#32
  | 46 => 0x3F0C7185#32
  | 47 => 0x3E37A1AA#32
  | 48 => 0x3FDDFBB0#32
  | 49 => 0xBEE7A966#32
  | 50 => 0xBDBEEE5A#32
  | 51 => 0xBEBA7B8F#32
  | 52 => 0xBFBAC8D4#32
  | 53 => 0xBF645332#32
  | 54 => 0x4000EF45#32
  | 55 => 0x3FC4C1DB#32
  | 56 => 0x3E35BF1D#32
  | 57 => 0x3F20B6B1#32
  | 58 => 0xBF1D932E#32
  | 59 => 0xBF2035F7#32
  | 60 => 0x3F97336C#32
  | 61 => 0x4000D390#32
  | 62 => 0xBFB59D20#32
  | 63 => 0xBE4A4B98#32
  | 64 => 0xBF3D9C4C#32
  | 65 => 0x3EACF10B#32
  | 66 => 0x3F12FE55#32
  | 67 => 0x40694501#32
  | 68 => 0x3F91D89A#32
  | 69 => 0x3B91A5BE#32
  | 70 => 0x3EDD05D2#32
  | 71 => 0x3F43D280#32
  | 72 => 0x400ADDC6#32
  | 73 => 0xBF6261C5#32
  | 74 => 0xBF2EBA33#32
  | 75 => 0x4008E672#32
  | 76 => 0xBE358417#32
  | 77 => 0xBEBD008D#32
  | 78 => 0x3EC9FD29#32
  | 79 => 0xBF5AA46E#32
  | 80 => 0xBF970C9A#32
  | 81 => 0x3F205BB1#32
  | 82 => 0x3E73212D#32
  | 83 => 0x3C05F44D#32
  | 84 => 0x3E8546BA#32
  | 85 => 0x3EC4F112#32
  | 86 => 0xBE650AB5#32
  | 87 => 0x404377A8#32
  | 88 => 0x3D393579#32
  | 89 => 0xBF3638BA#32
  | 90 => 0x3EFD77A2#32
  | 91 => 0xBF77B952#32
  | 92 => 0xBE178F08#32
  | 93 => 0xBF5D04E0#32
  | 94 => 0x3FF9A527#32
  | 95 => 0x3F6378AA#32
  | 96 => 0x3FAA938C#32
  | 97 => 0x3D0B5E59#32
  | 98 => 0x3F58D9AF#32
  | 99 => 0xBF304A6F#32
  | 100 => 0x40382C14#32
  | 101 => 0xBFB5D503#32
  | 102 => 0x3DD6C6A2#32
  | 103 => 0xBDE0F375#32
  | 104 => 0x3F90E6A7#32
  | 105 => 0x3FD5B9D9#32
  | 106 => 0x3D448833#32
  | 107 => 0x3EFD66A7#32
  | 108 => 0xBFB03E77#32
  | 109 => 0x3FFA1D48#32
  | 110 => 0xBF9D2869#32
  | 111 => 0xBDDB7E0E#32
  | 112 => 0x3D4C52B3#32
  | 113 => 0xBF5754CF#32
  | 114 => 0x3F5DFBA0#32
  | 115 => 0xBE190B0F#32
  | 116 => 0x40099A09#32
  | 117 => 0x3EB4A5E5#32
  | 118 => 0xBF5E5F82#32
  | 119 => 0x3F6FE2D2#32
  | 120 => 0x3FA0F51F#32
  | 121 => 0x401D6AF7#32
  | 122 => 0x403EF779#32
  | 123 => 0x3F80E011#32
  | 124 => 0xBEAF9D59#32
  | 125 => 0xBE8208FB#32
  | 126 => 0xBF6D0109#32
  | 127 => 0x3F4FBF59#32
  | _ => 0#32

noncomputable abbrev lit0t0_32 (i : Nat) : BitVec 32 := match i % 128 with
  | 0 => 0x3F614869#32
  | 1 => 0x3F40B5B9#32
  | 2 => 0xBE0F806D#32
  | 3 => 0x3F5FB217#32
  | 4 => 0xBEB76F22#32
  | 5 => 0xBD258984#32
  | 6 => 0xBF2845E9#32
  | 7 => 0xBD432739#32
  | 8 => 0x3F311628#32
  | 9 => 0xBE8259B7#32
  | 10 => 0x3F1855E7#32
  | 11 => 0xBEF8F232#32
  | 12 => 0xBF560636#32
  | 13 => 0xBE9E5992#32
  | 14 => 0xBE040FE2#32
  | 15 => 0x3EEFF4D2#32
  | 16 => 0xBF712709#32
  | 17 => 0xBF8EF278#32
  | 18 => 0x3F3DCF10#32
  | 19 => 0x3EEB0302#32
  | 20 => 0x3FC03116#32
  | 21 => 0x3F28B0B9#32
  | 22 => 0x3EC35928#32
  | 23 => 0x4061CFC7#32
  | 24 => 0xBE6694A0#32
  | 25 => 0x3F21222A#32
  | 26 => 0x40860066#32
  | 27 => 0x3D38503C#32
  | 28 => 0x3F319970#32
  | 29 => 0x3D7B6B60#32
  | 30 => 0x3F039808#32
  | 31 => 0x3FA779C8#32
  | 32 => 0x3F83588E#32
  | 33 => 0x40E5C26E#32
  | 34 => 0x3F36818F#32
  | 35 => 0xBD6CF8CC#32
  | 36 => 0x3F8B7B74#32
  | 37 => 0xBEB89F7E#32
  | 38 => 0xBF0224D7#32
  | 39 => 0xBF4CC97C#32
  | 40 => 0x3E9B0826#32
  | 41 => 0x3F8BC471#32
  | 42 => 0x3E543D33#32
  | 43 => 0xBDF2FD97#32
  | 44 => 0x3F954025#32
  | 45 => 0x3FB38888#32
  | 46 => 0xBEFF378E#32
  | 47 => 0x3E3EB708#32
  | 48 => 0xBEC666F3#32
  | 49 => 0xBF85ABDC#32
  | 50 => 0x3F12C99E#32
  | 51 => 0xBF963593#32
  | 52 => 0x402D4239#32
  | 53 => 0xBEA53740#32
  | 54 => 0x3FAC3E74#32
  | 55 => 0x3FE5A662#32
  | 56 => 0xBFE46F74#32
  | 57 => 0x3FCFD2D0#32
  | 58 => 0x3F8751A0#32
  | 59 => 0x3F4453CF#32
  | 60 => 0x3F32BC49#32
  | 61 => 0x4071D0F6#32
  | 62 => 0x3FBCDCA6#32
  | 63 => 0x3FADB431#32
  | 64 => 0xBF90FF7A#32
  | 65 => 0x3DA5636A#32
  | 66 => 0x40161DA2#32
  | 67 => 0xBF2DCBF6#32
  | 68 => 0x3D4B8AFF#32
  | 69 => 0x4052BDD0#32
  | 70 => 0xBD3D0FDA#32
  | 71 => 0x400A06C6#32
  | 72 => 0xBD078476#32
  | 73 => 0x3EAC6185#32
  | 74 => 0x3FA8A499#32
  | 75 => 0x3F129B7E#32
  | 76 => 0x3E42FB53#32
  | 77 => 0x3DC90462#32
  | 78 => 0xBEFDCE00#32
  | 79 => 0x3D872C66#32
  | 80 => 0xBEA30ADC#32
  | 81 => 0x402A6828#32
  | 82 => 0xBF37578D#32
  | 83 => 0x3FC8984A#32
  | 84 => 0xBC2EAA4F#32
  | 85 => 0xBEB9870C#32
  | 86 => 0x3FD02AEE#32
  | 87 => 0xBF5618DC#32
  | 88 => 0x3FB5F692#32
  | 89 => 0x3F1562F5#32
  | 90 => 0x3E1831D1#32
  | 91 => 0x3F78FA2E#32
  | 92 => 0x3FA722FE#32
  | 93 => 0xBE308322#32
  | 94 => 0x3F961737#32
  | 95 => 0x40116061#32
  | 96 => 0x3F9DDD12#32
  | 97 => 0xBF35621D#32
  | 98 => 0x4043351A#32
  | 99 => 0x400BBB56#32
  | 100 => 0x3FD75E41#32
  | 101 => 0xBE5E3ED7#32
  | 102 => 0xBE89D0A2#32
  | 103 => 0xBF8699BE#32
  | 104 => 0x4019C782#32
  | 105 => 0x3FF8CF9C#32
  | 106 => 0x3F4D3BA6#32
  | 107 => 0x403F31B7#32
  | 108 => 0x3F6EB0D9#32
  | 109 => 0x3ED44D74#32
  | 110 => 0x4021AB61#32
  | 111 => 0xBF674925#32
  | 112 => 0xBF7CB0E8#32
  | 113 => 0x40068BDB#32
  | 114 => 0x4066FF5F#32
  | 115 => 0x3FD608BC#32
  | 116 => 0x40AF082B#32
  | 117 => 0x3F8B0834#32
  | 118 => 0xBE988AEE#32
  | 119 => 0x403A599C#32
  | 120 => 0x3E9A66EC#32
  | 121 => 0xBF78FE5A#32
  | 122 => 0x402FD9F9#32
  | 123 => 0x400570C1#32
  | 124 => 0xBEAD2978#32
  | 125 => 0x3F827057#32
  | 126 => 0xBF835328#32
  | 127 => 0xBECF2DFA#32
  | _ => 0#32

noncomputable abbrev lit0t0_33 (i : Nat) : BitVec 32 := match i % 128 with
  | 0 => 0x3FC2B68C#32
  | 1 => 0xBF2B6C6E#32
  | 2 => 0xBDFF465B#32
  | 3 => 0x4011054C#32
  | 4 => 0xBE84D7D6#32
  | 5 => 0x3F8CEB2F#32
  | 6 => 0x3EE7D3AE#32
  | 7 => 0x3F275822#32
  | 8 => 0x3F663F1E#32
  | 9 => 0x3E0AF854#32
  | 10 => 0x3F4739F1#32
  | 11 => 0xBEA8EF23#32
  | 12 => 0x3E84E157#32
  | 13 => 0xBF8F2C27#32
  | 14 => 0xBD3E5EF6#32
  | 15 => 0x3F7E1875#32
  | 16 => 0x3F51A2AC#32
  | 17 => 0x3F278A20#32
  | 18 => 0xBEF85B02#32
  | 19 => 0xBE8C7746#32
  | 20 => 0x3D0EEE2C#32
  | 21 => 0x3EC9B2C1#32
  | 22 => 0x3EA995EA#32
  | 23 => 0x3FAF8A8E#32
  | 24 => 0x402BA2E7#32
  | 25 => 0x3EB283E9#32
  | 26 => 0xBE34486D#32
  | 27 => 0x3F36466F#32
  | 28 => 0x3E6FFDA2#32
  | 29 => 0x3F865CA4#32
  | 30 => 0xBE8A8883#32
  | 31 => 0xBE12D904#32
  | 32 => 0x3F2220CE#32
  | 33 => 0x3FA5B050#32
  | 34 => 0xBF7C2F37#32
  | 35 => 0xBF9045DC#32
  | 36 => 0xBF95EE80#32
  | 37 => 0xBD9BB994#32
  | 38 => 0x3FE16D18#32
  | 39 => 0xBFC89B26#32
  | 40 => 0x3F7853F8#32
  | 41 => 0x3F09CDF6#32
  | 42 => 0x40146D0E#32
  | 43 => 0x3FCAD99D#32
  | 44 => 0x3D203CA3#32
  | 45 => 0xBFDF24CB#32
  | 46 => 0xBE284AAE#32
  | 47 => 0x40107CD5#32
  | 48 => 0xBE4CA4C2#32
  | 49 => 0xBFEF2323#32
  | 50 => 0x3F5FA242#32
  | 51 => 0xBF7D8144#32
  | 52 => 0x3EAA1666#32
  | 53 => 0x3F74868C#32
  | 54 => 0x402EC718#32
  | 55 => 0xBF57691E#32
  | 56 => 0x3FF4CBC0#32
  | 57 => 0xBF04D8DB#32
  | 58 => 0xBF881A0C#32
  | 59 => 0xBF912D1A#32
  | 60 => 0xBF0C99CF#32
  | 61 => 0xBF6DE008#32
  | 62 => 0xBF33D23D#32
  | 63 => 0x3FE251EC#32
  | 64 => 0x3E257964#32
  | 65 => 0x3E589EF7#32
  | 66 => 0x3F50E695#32
  | 67 => 0xBF66E379#32
  | 68 => 0x3F86E4E1#32
  | 69 => 0x3EE9AB3D#32
  | 70 => 0xBE4E1A94#32
  | 71 => 0x401EB090#32
  | 72 => 0x3FAFBA0A#32
  | 73 => 0x400B759E#32
  | 74 => 0x4056DA56#32
  | 75 => 0x3FD67C74#32
  | 76 => 0x3E43F035#32
  | 77 => 0xBEC0449C#32
  | 78 => 0xBE09B99A#32
  | 79 => 0x3F3A517F#32
  | 80 => 0xBF9EC251#32
  | 81 => 0x3F49470C#32
  | 82 => 0x3F74AB4E#32
  | 83 => 0xBF36E945#32
  | 84 => 0x40015629#32
  | 85 => 0x4029F9BC#32
  | 86 => 0xBF0AEF95#32
  | 87 => 0xBEE0229B#32
  | 88 => 0xBE61C21A#32
  | 89 => 0xBE3CFFE0#32
  | 90 => 0xBDD28A6C#32
  | 91 => 0xBEA3BCE0#32
  | 92 => 0x3E5EAF56#32
  | 93 => 0xBD922E3A#32
  | 94 => 0x3B138A7C#32
  | 95 => 0x3F94E34B#32
  | 96 => 0x3F0BA2BE#32
  | 97 => 0xBF5B8AD6#32
  | 98 => 0x40167723#32
  | 99 => 0xBF06042C#32
  | 100 => 0x3E45BC4A#32
  | 101 => 0xBFA8203A#32
  | 102 => 0xBFAFA061#32
  | 103 => 0x3DEFDE17#32
  | 104 => 0x3F09CA3E#32
  | 105 => 0xBE320547#32
  | 106 => 0xBE86B95F#32
  | 107 => 0x3FAB6F62#32
  | 108 => 0x401E3446#32
  | 109 => 0xBE1F2BCE#32
  | 110 => 0x3F586A69#32
  | 111 => 0x3FEB0099#32
  | 112 => 0x3F7F7516#32
  | 113 => 0x3F9CA6D0#32
  | 114 => 0x3F2E7028#32
  | 115 => 0x3F99BA84#32
  | 116 => 0xBE916CDE#32
  | 117 => 0xBE9C5D95#32
  | 118 => 0x3F412D58#32
  | 119 => 0xBE95DC2A#32
  | 120 => 0x3F875ED6#32
  | 121 => 0x3E5AE1A0#32
  | 122 => 0x3EF5B642#32
  | 123 => 0xBF510A6E#32
  | 124 => 0x40A8D0CD#32
  | 125 => 0x3F06DE51#32
  | 126 => 0xBE8F7A93#32
  | 127 => 0x3F973A08#32
  | _ => 0#32

noncomputable abbrev lit0t0_34 (i : Nat) : BitVec 32 := match i % 128 with
  | 0 => 0x3F66F3A2#32
  | 1 => 0x3F574F5A#32
  | 2 => 0x4042E51C#32
  | 3 => 0x3D4C830D#32
  | 4 => 0xBF05AF07#32
  | 5 => 0xBDF5C90A#32
  | 6 => 0x3FD45705#32
  | 7 => 0x4022033F#32
  | 8 => 0xBF4EE50E#32
  | 9 => 0xBF119AAA#32
  | 10 => 0x3DA278CB#32
  | 11 => 0xBFC51A41#32
  | 12 => 0xBEAE205A#32
  | 13 => 0x401A5A85#32
  | 14 => 0x3F477394#32
  | 15 => 0xBFECA55E#32
  | 16 => 0x3EEAD68C#32
  | 17 => 0xBF343736#32
  | 18 => 0x408428C4#32
  | 19 => 0x3FB0F855#32
  | 20 => 0x40C5211D#32
  | 21 => 0xBF8BEBA7#32
  | 22 => 0xBF6DBDE3#32
  | 23 => 0x3FCD731F#32
  | 24 => 0xBEAA1ECE#32
  | 25 => 0x3FBEF341#32
  | 26 => 0x3FA3D08C#32
  | 27 => 0xBF3537C2#32
  | 28 => 0x3E547B56#32
  | 29 => 0xBDEC45FC#32
  | 30 => 0x3EB80C7B#32
  | 31 => 0xBD472889#32
  | 32 => 0xBF50307A#32
  | 33 => 0x3F2EB59C#32
  | 34 => 0x3DE0A6E2#32
  | 35 => 0x3F933204#32
  | 36 => 0x3FCA44F4#32
  | 37 => 0x408AB1CD#32
  | 38 => 0x3E91BBE7#32
  | 39 => 0x3F30E030#32
  | 40 => 0x4026F989#32
  | 41 => 0xBFD1DF96#32
  | 42 => 0xBF049FBA#32
  | 43 => 0xBF7715A8#32
  | 44 => 0xBF108C17#32
  | 45 => 0x40629CFF#32
  | 46 => 0x3F9E3BCD#32
  | 47 => 0x3EB74216#32
  | 48 => 0x3F313D45#32
  | 49 => 0xBFB886E2#32
  | 50 => 0x3FD96DDE#32
  | 51 => 0xBEF9D0CA#32
  | 52 => 0x3F83B89E#32
  | 53 => 0x3FE9ECBF#32
  | 54 => 0x3F9443DC#32
  | 55 => 0xBF3D83A4#32
  | 56 => 0x3C3CB462#32
  | 57 => 0x401D065D#32
  | 58 => 0xBC119FD5#32
  | 59 => 0x3D0856DF#32
  | 60 => 0x3F270CC8#32
  | 61 => 0x3FB5303D#32
  | 62 => 0xBF344105#32
  | 63 => 0xBF88E8E7#32
  | 64 => 0x3F9F265E#32
  | 65 => 0xBDB03A74#32
  | 66 => 0xBEDD0973#32
  | 67 => 0x402EA7EE#32
  | 68 => 0x3F41B934#32
  | 69 => 0x3EA1F0E5#32
  | 70 => 0xBF74962A#32
  | 71 => 0xBDBF2B18#32
  | 72 => 0xBF6B30FE#32
  | 73 => 0xBE3FE16F#32
  | 74 => 0xBFA36DD8#32
  | 75 => 0x3FA30BD7#32
  | 76 => 0x3F16B2FA#32
  | 77 => 0x3FD3248E#32
  | 78 => 0xBF940F54#32
  | 79 => 0x3FCB5902#32
  | 80 => 0x3D2D2B19#32
  | 81 => 0x3E86D6C6#32
  | 82 => 0xBF4EEF24#32
  | 83 => 0xBF1BB651#32
  | 84 => 0x3FA7BEAE#32
  | 85 => 0x3FEF2E11#32
  | 86 => 0xBF28337B#32
  | 87 => 0x3FB240B8#32
  | 88 => 0xBEC2419A#32
  | 89 => 0xBF498D82#32
  | 90 => 0xBEB368AA#32
  | 91 => 0x3F046D86#32
  | 92 => 0x3F8B7084#32
  | 93 => 0x3F9D8BCE#32
  | 94 => 0x3FA0ABDA#32
  | 95 => 0x3F962820#32
  | 96 => 0xBF5AB0CD#32
  | 97 => 0x3EC8A6F0#32
  | 98 => 0xBE8EBA8B#32
  | 99 => 0x3F88220E#32
  | 100 => 0xBF68A79C#32
  | 101 => 0x3D664072#32
  | 102 => 0xBFCA2EF2#32
  | 103 => 0x3F896649#32
  | 104 => 0x3FBBEE72#32
  | 105 => 0x3C76C6A3#32
  | 106 => 0xBE4CD425#32
  | 107 => 0x4014CB61#32
  | 108 => 0x3EF6468C#32
  | 109 => 0x3EE047BC#32
  | 110 => 0x3F05D034#32
  | 111 => 0xBF9904D8#32
  | 112 => 0x3FD49324#32
  | 113 => 0x4058DAE1#32
  | 114 => 0x3E42DFD8#32
  | 115 => 0x3FD22F7D#32
  | 116 => 0x400CFEFB#32
  | 117 => 0xBF7625C6#32
  | 118 => 0x3E906629#32
  | 119 => 0x4008E1D7#32
  | 120 => 0x3E7054C6#32
  | 121 => 0x3C9020EF#32
  | 122 => 0xBE4122EA#32
  | 123 => 0xBF82E565#32
  | 124 => 0x4014EEF1#32
  | 125 => 0x3DC59361#32
  | 126 => 0x3DCB4039#32
  | 127 => 0xBFA48ABA#32
  | _ => 0#32

noncomputable abbrev lit0t0_35 (i : Nat) : BitVec 32 := match i % 128 with
  | 0 => 0x3FE3F208#32
  | 1 => 0x4039CC36#32
  | 2 => 0xBE1E52D8#32
  | 3 => 0x3F5076CB#32
  | 4 => 0x3EB63E13#32
  | 5 => 0xBF29111C#32
  | 6 => 0x3FA5EEE1#32
  | 7 => 0x4010824E#32
  | 8 => 0xBEEDDC4C#32
  | 9 => 0xBF26A358#32
  | 10 => 0x40781509#32
  | 11 => 0x3FB5959D#32
  | 12 => 0x3E9CCDB9#32
  | 13 => 0x3EE1625F#32
  | 14 => 0x3F0D2E26#32
  | 15 => 0x3E4DEF92#32
  | 16 => 0x3F6CC698#32
  | 17 => 0x3FEECC00#32
  | 18 => 0x3EA06CB1#32
  | 19 => 0x40A05B43#32
  | 20 => 0x3EC1290C#32
  | 21 => 0xBE092476#32
  | 22 => 0x3F5EC482#32
  | 23 => 0x3F26D9A2#32
  | 24 => 0xBEA7FE59#32
  | 25 => 0x40153ABF#32
  | 26 => 0x3FB4F017#32
  | 27 => 0xBEFCD4E0#32
  | 28 => 0xBEA502E7#32
  | 29 => 0xBF1D4D42#32
  | 30 => 0x3F916375#32
  | 31 => 0x40335ECA#32
  | 32 => 0x3FACC857#32
  | 33 => 0xBFB373F2#32
  | 34 => 0xBE4FE056#32
  | 35 => 0xBD6BD4A8#32
  | 36 => 0x4074A46B#32
  | 37 => 0x3FB3B9DF#32
  | 38 => 0x3FAC4862#32
  | 39 => 0xBF029DA7#32
  | 40 => 0xBF787BAA#32
  | 41 => 0x3ECA0A09#32
  | 42 => 0xBFAB9AD8#32
  | 43 => 0x3F92EB77#32
  | 44 => 0x402F4AD2#32
  | 45 => 0x3EB0660B#32
  | 46 => 0x3F7EB644#32
  | 47 => 0x3FF007C7#32
  | 48 => 0x3F702670#32
  | 49 => 0x4028A6F2#32
  | 50 => 0x3E44B6E8#32
  | 51 => 0xBFADD898#32
  | 52 => 0xBF834A1C#32
  | 53 => 0x3ED8E67C#32
  | 54 => 0x40C14199#32
  | 55 => 0xBF24BA5C#32
  | 56 => 0x3EEA2326#32
  | 57 => 0xBEE7F938#32
  | 58 => 0xBEF0E4B2#32
  | 59 => 0x4030D145#32
  | 60 => 0xBFBCE542#32
  | 61 => 0x3F2C65C3#32
  | 62 => 0xBF5C9294#32
  | 63 => 0xBF5D7EC4#32
  | 64 => 0x3F51A4C4#32
  | 65 => 0x3FF71574#32
  | 66 => 0x40545EF9#32
  | 67 => 0xBE55B0FE#32
  | 68 => 0x3F071753#32
  | 69 => 0x403ACFA6#32
  | 70 => 0x4003BF34#32
  | 71 => 0xBF3A2C89#32
  | 72 => 0x3FD90393#32
  | 73 => 0xBFBCEB49#32
  | 74 => 0x3F33782D#32
  | 75 => 0x3F8E2E09#32
  | 76 => 0x3E1F6D61#32
  | 77 => 0x3FB98752#32
  | 78 => 0xBEF35A40#32
  | 79 => 0x3DFA0205#32
  | 80 => 0x404B464F#32
  | 81 => 0xBE0E4593#32
  | 82 => 0x3F82FE0C#32
  | 83 => 0xBF3F545E#32
  | 84 => 0x3F681F4E#32
  | 85 => 0x3E17346D#32
  | 86 => 0x3EE00815#32
  | 87 => 0x3FA794A5#32
  | 88 => 0xBF2BD9F0#32
  | 89 => 0x4057D877#32
  | 90 => 0xBF7B1CD4#32
  | 91 => 0x3E388665#32
  | 92 => 0x40198258#32
  | 93 => 0x40001116#32
  | 94 => 0x3E0BA036#32
  | 95 => 0x4008E0BD#32
  | 96 => 0xBE55F433#32
  | 97 => 0x3FD301B6#32
  | 98 => 0x3D8EA0B0#32
  | 99 => 0x4042ABB2#32
  | 100 => 0x4001452C#32
  | 101 => 0xBD09CA3A#32
  | 102 => 0x3F31D14B#32
  | 103 => 0xBE85C5FB#32
  | 104 => 0xBF08EDD4#32
  | 105 => 0xBF2181F0#32
  | 106 => 0x3F81B4AB#32
  | 107 => 0xBE8AB213#32
  | 108 => 0xBE999518#32
  | 109 => 0x3EC3D195#32
  | 110 => 0x3F123A94#32
  | 111 => 0x3E577736#32
  | 112 => 0xBE185695#32
  | 113 => 0x3FCA52FC#32
  | 114 => 0xBF89E162#32
  | 115 => 0x3E4A267A#32
  | 116 => 0x3EF8E5BD#32
  | 117 => 0xBF8E01F4#32
  | 118 => 0x3FDFC9E1#32
  | 119 => 0xBF9B2DB9#32
  | 120 => 0xBF7FEC86#32
  | 121 => 0x3F09CEB5#32
  | 122 => 0x3F9D4E9F#32
  | 123 => 0x3F443FD2#32
  | 124 => 0x3FAA098E#32
  | 125 => 0xBDBEDC95#32
  | 126 => 0xBF7BAC21#32
  | 127 => 0x3EC8FF3F#32
  | _ => 0#32

noncomputable abbrev lit0t0_36 (i : Nat) : BitVec 32 := match i % 128 with
  | 0 => 0xBF689898#32
  | 1 => 0x3EAED050#32
  | 2 => 0x3FABC728#32
  | 3 => 0xBE982B28#32
  | 4 => 0x3F5F6574#32
  | 5 => 0xBEE19B4C#32
  | 6 => 0x3F835484#32
  | 7 => 0x3E627832#32
  | 8 => 0x3F45A665#32
  | 9 => 0xBDA221D9#32
  | 10 => 0x3EBEAA16#32
  | 11 => 0xBF97F110#32
  | 12 => 0x3FB6F426#32
  | 13 => 0x3F5BC4B4#32
  | 14 => 0x3D4D0503#32
  | 15 => 0x3FDF4EC2#32
  | 16 => 0xBFB9BDCB#32
  | 17 => 0x3F85BD56#32
  | 18 => 0x3FCEECB3#32
  | 19 => 0xBF0D1627#32
  | 20 => 0x3FCEA04E#32
  | 21 => 0x3FA0F0F6#32
  | 22 => 0x3EC16F94#32
  | 23 => 0xBE7D7168#32
  | 24 => 0xBF2B3812#32
  | 25 => 0x3EE65952#32
  | 26 => 0x401E6C4C#32
  | 27 => 0x408E330B#32
  | 28 => 0x3F2EC537#32
  | 29 => 0xBF28E986#32
  | 30 => 0x3EC00FD2#32
  | 31 => 0x3FDAF85A#32
  | 32 => 0x3D8DC47B#32
  | 33 => 0x3F3B92C1#32
  | 34 => 0x3F90B8FE#32
  | 35 => 0x3DC0FD5B#32
  | 36 => 0x3F4CD506#32
  | 37 => 0xBF3B3924#32
  | 38 => 0x3F745F8F#32
  | 39 => 0xBC06AB6D#32
  | 40 => 0x3EBBD0CB#32
  | 41 => 0x3ECAE529#32
  | 42 => 0xBF4D5A6E#32
  | 43 => 0xBF02651C#32
  | 44 => 0xBF861F8E#32
  | 45 => 0xBEFE8348#32
  | 46 => 0xBE485E12#32
  | 47 => 0xBF100E63#32
  | 48 => 0xBF1F7234#32
  | 49 => 0x3F0C3BE4#32
  | 50 => 0x404F3131#32
  | 51 => 0x3F1FB18E#32
  | 52 => 0x3FEFDD55#32
  | 53 => 0x3F5D8213#32
  | 54 => 0x3FD5794A#32
  | 55 => 0xBE99E97A#32
  | 56 => 0x3F42C59D#32
  | 57 => 0xBEA90056#32
  | 58 => 0xBF105E9C#32
  | 59 => 0xBF18ACF9#32
  | 60 => 0x3FD5BD48#32
  | 61 => 0xBE508B86#32
  | 62 => 0x409B308A#32
  | 63 => 0x3F125472#32
  | 64 => 0xBE8FDB39#32
  | 65 => 0x3DCFFFC7#32
  | 66 => 0x3ECA298F#32
  | 67 => 0x405817A3#32
  | 68 => 0x3FCE20F5#32
  | 69 => 0x3FA80EB4#32
  | 70 => 0x3FC4982E#32
  | 71 => 0xBF57A219#32
  | 72 => 0x3F8C808E#32
  | 73 => 0xBC1B21E4#32
  | 74 => 0x3F5852BD#32
  | 75 => 0x3F3CAAE1#32
  | 76 => 0x403114CE#32
  | 77 => 0x3E8A0389#32
  | 78 => 0x3C8FD82A#32
  | 79 => 0x3EC1099B#32
  | 80 => 0x3F8590CB#32
  | 81 => 0xBE65596E#32
  | 82 => 0x3F957EB9#32
  | 83 => 0x3F76FC87#32
  | 84 => 0x3FC891B2#32
  | 85 => 0xBF55E267#32
  | 86 => 0x408F6C76#32
  | 87 => 0xBED6AE43#32
  | 88 => 0x3CCB8438#32
  | 89 => 0x3F628E30#32
  | 90 => 0xBF3A845A#32
  | 91 => 0xBD556A62#32
  | 92 => 0x40161BBF#32
  | 93 => 0x3DB3C05A#32
  | 94 => 0x3F29EFD4#32
  | 95 => 0x3F57D475#32
  | 96 => 0xBF7370A9#32
  | 97 => 0xBDB52951#32
  | 98 => 0x401CAB67#32
  | 99 => 0x3EC0E5A8#32
  | 100 => 0x40785364#32
  | 101 => 0x3F23FC65#32
  | 102 => 0xBF17F01F#32
  | 103 => 0xBD6EFF84#32
  | 104 => 0xBDA6C0A4#32
  | 105 => 0x40020E42#32
  | 106 => 0x3F6DC8EE#32
  | 107 => 0x3D3C45CD#32
  | 108 => 0xBE868D9D#32
  | 109 => 0x3CA28683#32
  | 110 => 0x3FACCDB6#32
  | 111 => 0x3FCE4146#32
  | 112 => 0x3F38CA6F#32
  | 113 => 0x3F7B6CCC#32
  | 114 => 0x3DD63237#32
  | 115 => 0x40288082#32
  | 116 => 0xBF297EEC#32
  | 117 => 0x3FDB8F58#32
  | 118 => 0x3D402BD8#32
  | 119 => 0x3FFF9018#32
  | 120 => 0x3E06B777#32
  | 121 => 0x403A6146#32
  | 122 => 0xBF8FA877#32
  | 123 => 0x3F871D07#32
  | 124 => 0xBF529024#32
  | 125 => 0x3F43B5F9#32
  | 126 => 0x3F6650DC#32
  | 127 => 0x3F62C3F0#32
  | _ => 0#32

noncomputable abbrev lit0t0_37 (i : Nat) : BitVec 32 := match i % 128 with
  | 0 => 0xBE5038E9#32
  | 1 => 0xBF51B482#32
  | 2 => 0x3C10204F#32
  | 3 => 0xBCF46AF5#32
  | 4 => 0x3F8E6437#32
  | 5 => 0x3FBA3A76#32
  | 6 => 0xBF272A77#32
  | 7 => 0xBF5A2CF7#32
  | 8 => 0x3C4EE400#32
  | 9 => 0x3FA874D7#32
  | 10 => 0xBFC5B588#32
  | 11 => 0x3FA15FE9#32
  | 12 => 0x3FD2966D#32
  | 13 => 0x3E6B2D9F#32
  | 14 => 0x4089B083#32
  | 15 => 0x3FE1A478#32
  | 16 => 0xBEDCAD18#32
  | 17 => 0x3FCBE832#32
  | 18 => 0xBF2991C6#32
  | 19 => 0x4009A2A6#32
  | 20 => 0x3F49FA38#32
  | 21 => 0x3FB43454#32
  | 22 => 0x3ED97281#32
  | 23 => 0xBF04E344#32
  | 24 => 0x3FBA2DC8#32
  | 25 => 0xBE1EAD83#32
  | 26 => 0x3F2F4A64#32
  | 27 => 0xBE5EE060#32
  | 28 => 0xBF0996D5#32
  | 29 => 0x3E214AF3#32
  | 30 => 0x3FD6D5C2#32
  | 31 => 0x3FBD1D3E#32
  | 32 => 0xBDF2A5D4#32
  | 33 => 0x3F450869#32
  | 34 => 0x3EA319F2#32
  | 35 => 0x3E2572C2#32
  | 36 => 0xBE87B08E#32
  | 37 => 0x3F19ECF4#32
  | 38 => 0x3FF110FB#32
  | 39 => 0xBF81FFB7#32
  | 40 => 0x402D0450#32
  | 41 => 0xBF5ED604#32
  | 42 => 0x3FCF9B86#32
  | 43 => 0x408DB970#32
  | 44 => 0x3E749159#32
  | 45 => 0xBF9EB7A4#32
  | 46 => 0x3F8F2B82#32
  | 47 => 0x401F6EFA#32
  | 48 => 0xBE643C95#32
  | 49 => 0xBDA870AE#32
  | 50 => 0xBE797340#32
  | 51 => 0x3F9A6C64#32
  | 52 => 0x3F5129CB#32
  | 53 => 0x3E516AE9#32
  | 54 => 0xBF58556E#32
  | 55 => 0x3DF3F5B7#32
  | 56 => 0x40751D6C#32
  | 57 => 0xBE4EEAC7#32
  | 58 => 0x3E1C1024#32
  | 59 => 0x3FD70BC4#32
  | 60 => 0x3EA53B4C#32
  | 61 => 0x3F545FEA#32
  | 62 => 0xBF1724E5#32
  | 63 => 0xBDEAF6AE#32
  | 64 => 0x3ED698E5#32
  | 65 => 0xBE840B62#32
  | 66 => 0x3ED21320#32
  | 67 => 0x3F8F2269#32
  | 68 => 0x401E71B4#32
  | 69 => 0xBEA00E4B#32
  | 70 => 0xBE293082#32
  | 71 => 0xBD0580AE#32
  | 72 => 0x3F535B76#32
  | 73 => 0xBE9032CA#32
  | 74 => 0xBE5DB59E#32
  | 75 => 0xBF710A19#32
  | 76 => 0x3F0D8AE4#32
  | 77 => 0x3EB099B1#32
  | 78 => 0xBEE40842#32
  | 79 => 0x3F93ADCC#32
  | 80 => 0x3FD79820#32
  | 81 => 0x3FDFDB31#32
  | 82 => 0x3FF8D9C0#32
  | 83 => 0x3EF292B6#32
  | 84 => 0x3D6DB55F#32
  | 85 => 0x3FBE5BE2#32
  | 86 => 0x3FE240E7#32
  | 87 => 0x40135200#32
  | 88 => 0xBEC6C17E#32
  | 89 => 0x3E25E644#32
  | 90 => 0x401F6A64#32
  | 91 => 0x3E1AF8EC#32
  | 92 => 0x3FD8CDBA#32
  | 93 => 0x4083ED21#32
  | 94 => 0xBFC36B09#32
  | 95 => 0x3FFCBD2B#32
  | 96 => 0x404328DE#32
  | 97 => 0x3E4E9666#32
  | 98 => 0xBF81B7E4#32
  | 99 => 0x3FD7B7AF#32
  | 100 => 0x3F7D518D#32
  | 101 => 0xBF48F1DC#32
  | 102 => 0x3FA4A735#32
  | 103 => 0x401937CB#32
  | 104 => 0x3FA928F8#32
  | 105 => 0xBF1AA00E#32
  | 106 => 0xBF1B2D32#32
  | 107 => 0xBF30AB6E#32
  | 108 => 0x3E0AEECE#32
  | 109 => 0x4033277B#32
  | 110 => 0x3FA915B4#32
  | 111 => 0x3F81A3D3#32
  | 112 => 0x40280C62#32
  | 113 => 0xBF8CC5CC#32
  | 114 => 0xBE3E564B#32
  | 115 => 0x4048C6E4#32
  | 116 => 0xBE79294B#32
  | 117 => 0x3F9AD490#32
  | 118 => 0x3EF1D378#32
  | 119 => 0x3E6415CE#32
  | 120 => 0xBD561337#32
  | 121 => 0xBF956331#32
  | 122 => 0xBE02998B#32
  | 123 => 0x3F4A81B3#32
  | 124 => 0x3E9B6EE0#32
  | 125 => 0x406056DA#32
  | 126 => 0x3ED8A332#32
  | 127 => 0xBF301C31#32
  | _ => 0#32

noncomputable abbrev lit0t0_38 (i : Nat) : BitVec 32 := match i % 128 with
  | 0 => 0x3F7643C4#32
  | 1 => 0xBDDF1448#32
  | 2 => 0x3FCD4DE3#32
  | 3 => 0x3F126761#32
  | 4 => 0x3F644459#32
  | 5 => 0xBF86B130#32
  | 6 => 0x3FF8AEB8#32
  | 7 => 0x4083E47F#32
  | 8 => 0x3E8D83AD#32
  | 9 => 0x3E70EB88#32
  | 10 => 0x3F42A1F9#32
  | 11 => 0x3EB51D6F#32
  | 12 => 0xBEAB7CCE#32
  | 13 => 0x3F9F9FF0#32
  | 14 => 0x3FEBE08B#32
  | 15 => 0x3F14A350#32
  | 16 => 0xBE89F96B#32
  | 17 => 0xBD373B02#32
  | 18 => 0x3FAB7999#32
  | 19 => 0xBE129870#32
  | 20 => 0x3F96F7FB#32
  | 21 => 0xBF52CF8F#32
  | 22 => 0xBE0CC6F7#32
  | 23 => 0x3EBB05DA#32
  | 24 => 0x3F9398EC#32
  | 25 => 0x3F36648D#32
  | 26 => 0x3F7AAAE2#32
  | 27 => 0xBEB611F4#32
  | 28 => 0x3FB02B6B#32
  | 29 => 0x3F81248C#32
  | 30 => 0x3F8F2472#32
  | 31 => 0x3F3B8D2E#32
  | 32 => 0xBEBB7716#32
  | 33 => 0x3FB8B6A2#32
  | 34 => 0x3EB2DBF3#32
  | 35 => 0x3FB4FF3F#32
  | 36 => 0xBF046B86#32
  | 37 => 0x40361F11#32
  | 38 => 0x3EEEAC6C#32
  | 39 => 0xBF088452#32
  | 40 => 0x3EDA47BB#32
  | 41 => 0x3FADD85D#32
  | 42 => 0x401A6C97#32
  | 43 => 0xBD795AE7#32
  | 44 => 0x3F860798#32
  | 45 => 0xBF754E62#32
  | 46 => 0x3EDB17D3#32
  | 47 => 0xBFB5B179#32
  | 48 => 0xBF65B8F4#32
  | 49 => 0xBF6110DA#32
  | 50 => 0xBEC8A3D2#32
  | 51 => 0x3D67C882#32
  | 52 => 0xBEB4DC75#32
  | 53 => 0x3DD69C41#32
  | 54 => 0x3E9E04F6#32
  | 55 => 0x3F8D188C#32
  | 56 => 0x3F9B31CB#32
  | 57 => 0xBE9C03FE#32
  | 58 => 0x40076F69#32
  | 59 => 0xBF221B50#32
  | 60 => 0x3FFB6F7E#32
  | 61 => 0x3F847598#32
  | 62 => 0x401EDC3D#32
  | 63 => 0x3F3C2533#32
  | 64 => 0x401A0FFF#32
  | 65 => 0xBFA20F82#32
  | 66 => 0xBCF3F06A#32
  | 67 => 0x40B778F6#32
  | 68 => 0x3F2B987C#32
  | 69 => 0x40148203#32
  | 70 => 0xBEE791DA#32
  | 71 => 0x4000FC02#32
  | 72 => 0xBF99C3BB#32
  | 73 => 0x40AFBB46#32
  | 74 => 0x3F70E205#32
  | 75 => 0xBCE6E70E#32
  | 76 => 0x3FB5736B#32
  | 77 => 0x3EF02A3C#32
  | 78 => 0xBF829D2D#32
  | 79 => 0xBF2A39A6#32
  | 80 => 0xBF758A71#32
  | 81 => 0x3E29BF33#32
  | 82 => 0xBF4AAA31#32
  | 83 => 0x3F88F4A6#32
  | 84 => 0x3FD7B075#32
  | 85 => 0xBD0A652A#32
  | 86 => 0x3EB6D393#32
  | 87 => 0xBE3D1599#32
  | 88 => 0x3F2DF59D#32
  | 89 => 0xBDC1BCDA#32
  | 90 => 0xBEFD20EE#32
  | 91 => 0x3F940869#32
  | 92 => 0xBEE86AA8#32
  | 93 => 0x3F09D158#32
  | 94 => 0xBE649DF7#32
  | 95 => 0x40223AF4#32
  | 96 => 0x3F6E3694#32
  | 97 => 0xBEB60C34#32
  | 98 => 0x3EEDF0B5#32
  | 99 => 0x3F089326#32
  | 100 => 0xBF9AA2B9#32
  | 101 => 0xBF65D080#32
  | 102 => 0xBF8F14EA#32
  | 103 => 0x3FAECF8E#32
  | 104 => 0xBEB25F2D#32
  | 105 => 0xBF6A707F#32
  | 106 => 0xBE5EF51D#32
  | 107 => 0x408B259B#32
  | 108 => 0x3F4DA555#32
  | 109 => 0x3ED3FC16#32
  | 110 => 0x3F95E232#32
  | 111 => 0x3EDA596E#32
  | 112 => 0xBE5802C7#32
  | 113 => 0xBE3FC538#32
  | 114 => 0x3F56720F#32
  | 115 => 0xBEBF92E2#32
  | 116 => 0xBFA20C12#32
  | 117 => 0xBF8124E7#32
  | 118 => 0x3F9DBBDE#32
  | 119 => 0x3FB370A7#32
  | 120 => 0xBF0B47B8#32
  | 121 => 0x400301DD#32
  | 122 => 0x3F9C5E8F#32
  | 123 => 0xBCF9605E#32
  | 124 => 0xBE647EBE#32
  | 125 => 0xBE79A327#32
  | 126 => 0x3F189D59#32
  | 127 => 0x3FFC5569#32
  | _ => 0#32

noncomputable abbrev lit0t0_39 (i : Nat) : BitVec 32 := match i % 128 with
  | 0 => 0x3F7279B8#32
  | 1 => 0x3EE8CE6E#32
  | 2 => 0x3F1297A6#32
  | 3 => 0x3EB75BD9#32
  | 4 => 0x40483CC6#32
  | 5 => 0x3F782C72#32
  | 6 => 0x406856D1#32
  | 7 => 0xBCAFB3AC#32
  | 8 => 0x3F20BC6F#32
  | 9 => 0x3EAC3C7C#32
  | 10 => 0x3EF41E42#32
  | 11 => 0xBEDA2DB7#32
  | 12 => 0xBEBEAA9F#32
  | 13 => 0xBF3C42EF#32
  | 14 => 0x3F3D1CEC#32
  | 15 => 0xBE50AC53#32
  | 16 => 0x3EA29AAA#32
  | 17 => 0xBFA4C258#32
  | 18 => 0xBE2D790C#32
  | 19 => 0xBE0941B5#32
  | 20 => 0xBE10E65D#32
  | 21 => 0xBFA2FB86#32
  | 22 => 0x4002C3C3#32
  | 23 => 0x3F9CAB73#32
  | 24 => 0xBDBC56E7#32
  | 25 => 0xBF022705#32
  | 26 => 0x3D8033FE#32
  | 27 => 0xBF4CF936#32
  | 28 => 0xBF8CA4BF#32
  | 29 => 0x3E84D150#32
  | 30 => 0x3F726AAA#32
  | 31 => 0x3E9982B8#32
  | 32 => 0x404CF3C4#32
  | 33 => 0xBF830F45#32
  | 34 => 0xBE8BA9F1#32
  | 35 => 0x3F8A73D5#32
  | 36 => 0x3FD4F6DB#32
  | 37 => 0xBF67FCAF#32
  | 38 => 0xBF378B71#32
  | 39 => 0x3F76636F#32
  | 40 => 0xBF897E62#32
  | 41 => 0x400F9F32#32
  | 42 => 0xBF0F5BA9#32
  | 43 => 0x3F96F046#32
  | 44 => 0xBF3C64C1#32
  | 45 => 0xBED86BA8#32
  | 46 => 0x403B790B#32
  | 47 => 0x403AECA7#32
  | 48 => 0x3E4DCFCD#32
  | 49 => 0x3FAE32E9#32
  | 50 => 0x3F9758E4#32
  | 51 => 0xBE9D3FFB#32
  | 52 => 0x3DA203B8#32
  | 53 => 0x3F434435#32
  | 54 => 0x3DC27DC5#32
  | 55 => 0xBF7D4B32#32
  | 56 => 0x3F51EEC8#32
  | 57 => 0x3FBB3AA9#32
  | 58 => 0x3F78DE52#32
  | 59 => 0x4082B755#32
  | 60 => 0x3ECD3C16#32
  | 61 => 0x3EB1A2FF#32
  | 62 => 0xBE428CC1#32
  | 63 => 0x3D9D7C03#32
  | 64 => 0x3EEB40BE#32
  | 65 => 0x3E9EB984#32
  | 66 => 0xBE5C427B#32
  | 67 => 0x3F0D8FBF#32
  | 68 => 0xBFB3F7B5#32
  | 69 => 0x3F66B98C#32
  | 70 => 0xBE1B7222#32
  | 71 => 0xBF2770A0#32
  | 72 => 0x3F685944#32
  | 73 => 0xBF2BDAAC#32
  | 74 => 0xBD4BD95C#32
  | 75 => 0xBF5E0C57#32
  | 76 => 0x3F918923#32
  | 77 => 0xBFCCF065#32
  | 78 => 0x40234544#32
  | 79 => 0xBD40E85C#32
  | 80 => 0xBF0DDC32#32
  | 81 => 0xBF58D82D#32
  | 82 => 0xBE1D7A14#32
  | 83 => 0x3ED8139F#32
  | 84 => 0xBEE0C532#32
  | 85 => 0x3EB14394#32
  | 86 => 0xBEB1D198#32
  | 87 => 0x405D5E0A#32
  | 88 => 0xBE4C637F#32
  | 89 => 0x3F99637A#32
  | 90 => 0xBF39C4F5#32
  | 91 => 0x3E9E0966#32
  | 92 => 0x401EB8E0#32
  | 93 => 0x3EE15E36#32
  | 94 => 0x3F6C4AB6#32
  | 95 => 0x405ECC04#32
  | 96 => 0xBF35B3EF#32
  | 97 => 0xBF20F6F3#32
  | 98 => 0xBF26EC1D#32
  | 99 => 0x3F909518#32
  | 100 => 0x3E5C0074#32
  | 101 => 0x3FAB038B#32
  | 102 => 0xBF111089#32
  | 103 => 0xBE91FC7E#32
  | 104 => 0x3EB5E222#32
  | 105 => 0x3FEDED48#32
  | 106 => 0x3E16AE46#32
  | 107 => 0x3FF5A8CA#32
  | 108 => 0x3DC6E109#32
  | 109 => 0xBFAB1914#32
  | 110 => 0xBEDB6647#32
  | 111 => 0x3F237496#32
  | 112 => 0x3F63035D#32
  | 113 => 0x3DF355F3#32
  | 114 => 0xBE8747D4#32
  | 115 => 0x3DBAD4A9#32
  | 116 => 0x40966374#32
  | 117 => 0xBF0AAE53#32
  | 118 => 0x3E9D22FF#32
  | 119 => 0x3EE5FA90#32
  | 120 => 0xBE31FABF#32
  | 121 => 0x3E461796#32
  | 122 => 0xBECF855A#32
  | 123 => 0x3F40738B#32
  | 124 => 0xBD3AA3D3#32
  | 125 => 0xBF480059#32
  | 126 => 0xBECC66C8#32
  | 127 => 0x3F484DC2#32
  | _ => 0#32

noncomputable abbrev lit0t0_40 (i : Nat) : BitVec 32 := match i % 128 with
  | 0 => 0x4002FA7F#32
  | 1 => 0xBF593AD2#32
  | 2 => 0x3ED82034#32
  | 3 => 0x3F2EDAEC#32
  | 4 => 0x3E42278E#32
  | 5 => 0xBF229CE7#32
  | 6 => 0x3FC54451#32
  | 7 => 0xBFA40D18#32
  | 8 => 0x3FB88C1D#32
  | 9 => 0x3E8B8F91#32
  | 10 => 0x3FDEDA8C#32
  | 11 => 0x3E5B4462#32
  | 12 => 0x3E8CD572#32
  | 13 => 0x3F3C569B#32
  | 14 => 0x3FA5CB34#32
  | 15 => 0xBF8636B8#32
  | 16 => 0x3F84D896#32
  | 17 => 0x3DE458F8#32
  | 18 => 0x40ACABB8#32
  | 19 => 0x3EE6C286#32
  | 20 => 0x3F7A9CCE#32
  | 21 => 0xBF9B165C#32
  | 22 => 0x40F3B32D#32
  | 23 => 0x3EC633E4#32
  | 24 => 0x3D426233#32
  | 25 => 0x3EA7805E#32
  | 26 => 0x404AB10F#32
  | 27 => 0x3EF41460#32
  | 28 => 0x3F423AC6#32
  | 29 => 0x3F92C6CF#32
  | 30 => 0xBFAC238F#32
  | 31 => 0xBE0A8DEF#32
  | 32 => 0xBF6C6CB6#32
  | 33 => 0x3F2F6A08#32
  | 34 => 0x3FFBDF04#32
  | 35 => 0xBD08D7BF#32
  | 36 => 0x3F032D12#32
  | 37 => 0xBE63CD02#32
  | 38 => 0x3ED6EFA0#32
  | 39 => 0x3EA4B4DA#32
  | 40 => 0x3F2644D1#32
  | 41 => 0xBE2F7B17#32
  | 42 => 0xBEB063B8#32
  | 43 => 0xBD2DF605#32
  | 44 => 0x400E7800#32
  | 45 => 0xBF0A8FFB#32
  | 46 => 0xBE1D75F4#32
  | 47 => 0x3FB598E2#32
  | 48 => 0x405EAC3B#32
  | 49 => 0x40577C42#32
  | 50 => 0xBFA7C836#32
  | 51 => 0xBF8F793F#32
  | 52 => 0x3FE7ADC5#32
  | 53 => 0x3F3F3B13#32
  | 54 => 0x3FF79FEE#32
  | 55 => 0x3F822694#32
  | 56 => 0xBF69BA34#32
  | 57 => 0x4005B421#32
  | 58 => 0x4028949B#32
  | 59 => 0x4023C8C9#32
  | 60 => 0x3F8D2CD1#32
  | 61 => 0x3F5E1C1F#32
  | 62 => 0x3F218B98#32
  | 63 => 0x3DA05801#32
  | 64 => 0xBF76B63B#32
  | 65 => 0x3F1B6A07#32
  | 66 => 0xBE9EFBE3#32
  | 67 => 0x3EE05AF0#32
  | 68 => 0x400C28B4#32
  | 69 => 0x3F856778#32
  | 70 => 0x3FEFAF95#32
  | 71 => 0x3F30A05C#32
  | 72 => 0x3FAF4046#32
  | 73 => 0x3F6323D6#32
  | 74 => 0x40541EF3#32
  | 75 => 0xBFABF1BB#32
  | 76 => 0xBEF06902#32
  | 77 => 0x3F6BB57F#32
  | 78 => 0x3FBECABE#32
  | 79 => 0xBECC6362#32
  | 80 => 0x3EFAB484#32
  | 81 => 0xBD6595C0#32
  | 82 => 0xBF1C1EF2#32
  | 83 => 0x3FD2A9AE#32
  | 84 => 0x3E28CB10#32
  | 85 => 0xBF83B398#32
  | 86 => 0x3F9681FE#32
  | 87 => 0xBF074D23#32
  | 88 => 0x3F6CD06F#32
  | 89 => 0xBF82568A#32
  | 90 => 0x3ED34E10#32
  | 91 => 0xBF0EAED6#32
  | 92 => 0x3CCE1C5E#32
  | 93 => 0xBEEBEEB6#32
  | 94 => 0x4012B3E1#32
  | 95 => 0x3F571280#32
  | 96 => 0x3F408130#32
  | 97 => 0xBE1BB42C#32
  | 98 => 0x3F9AFD4E#32
  | 99 => 0x3DF6243A#32
  | 100 => 0x3E70E850#32
  | 101 => 0x3F94D914#32
  | 102 => 0x3FF771F3#32
  | 103 => 0x3F9626BC#32
  | 104 => 0x3FB21474#32
  | 105 => 0x3EBAE240#32
  | 106 => 0x3E55E8E3#32
  | 107 => 0x3FEA32F6#32
  | 108 => 0x3FA6676A#32
  | 109 => 0x4048B884#32
  | 110 => 0xBF8F50A2#32
  | 111 => 0x40034601#32
  | 112 => 0x3EB3B5C2#32
  | 113 => 0x3F093215#32
  | 114 => 0xBF553745#32
  | 115 => 0x3F289AD1#32
  | 116 => 0x3F6A78A7#32
  | 117 => 0x3D2C5E54#32
  | 118 => 0x3EE11B16#32
  | 119 => 0xBEEE9916#32
  | 120 => 0x400E83EA#32
  | 121 => 0xBE7E43EE#32
  | 122 => 0xBE4289FD#32
  | 123 => 0x403D773C#32
  | 124 => 0x3F3CB564#32
  | 125 => 0xBFBD1C11#32
  | 126 => 0xBE48E037#32
  | 127 => 0xBE2EBF61#32
  | _ => 0#32

noncomputable abbrev lit0t0_41 (i : Nat) : BitVec 32 := match i % 128 with
  | 0 => 0x3FC693E9#32
  | 1 => 0x3E77CEA2#32
  | 2 => 0x3DD23AF0#32
  | 3 => 0x3E0F0C63#32
  | 4 => 0x40133DC2#32
  | 5 => 0x400273D3#32
  | 6 => 0x3F061655#32
  | 7 => 0x3F51D1FF#32
  | 8 => 0xBE21E0E5#32
  | 9 => 0xBFAC1B63#32
  | 10 => 0xBF194E14#32
  | 11 => 0x3E2B5493#32
  | 12 => 0xBF39B0D8#32
  | 13 => 0xBFB0B93F#32
  | 14 => 0xBD5898FC#32
  | 15 => 0x3E4BDBDF#32
  | 16 => 0xBE270DDC#32
  | 17 => 0xBDD49D38#32
  | 18 => 0x3F1B4863#32
  | 19 => 0xBE8CCA4A#32
  | 20 => 0x3F60D3FB#32
  | 21 => 0xBE843817#32
  | 22 => 0x3FF3809E#32
  | 23 => 0xBEF667DC#32
  | 24 => 0x3FE435F1#32
  | 25 => 0x3E1BF2D8#32
  | 26 => 0x3D80552A#32
  | 27 => 0x3EA6A47C#32
  | 28 => 0x401F6586#32
  | 29 => 0x3FB1CED5#32
  | 30 => 0x3EEA57B0#32
  | 31 => 0x408BCC02#32
  | 32 => 0xBF551E4E#32
  | 33 => 0x3FB83BDD#32
  | 34 => 0x3EF9D6D0#32
  | 35 => 0x3FB24852#32
  | 36 => 0x4036CFE7#32
  | 37 => 0x40069245#32
  | 38 => 0xBF4508D1#32
  | 39 => 0x4084C144#32
  | 40 => 0xBF9AB767#32
  | 41 => 0xBF8DE0DE#32
  | 42 => 0x3F01ACF2#32
  | 43 => 0x3F03E3A5#32
  | 44 => 0x3E0D26E3#32
  | 45 => 0x3DD54AC8#32
  | 46 => 0x3F351F3E#32
  | 47 => 0x3C0CFA54#32
  | 48 => 0xBF81C359#32
  | 49 => 0x3F3CB176#32
  | 50 => 0xBD9E327A#32
  | 51 => 0xBF58E164#32
  | 52 => 0xBF178F37#32
  | 53 => 0x3FA4D612#32
  | 54 => 0x3EDA857A#32
  | 55 => 0xBEF25BFE#32
  | 56 => 0x3E8E458B#32
  | 57 => 0x3ED80F36#32
  | 58 => 0x3F974050#32
  | 59 => 0xBF4921F9#32
  | 60 => 0xBE8F3DDD#32
  | 61 => 0x3F97AF82#32
  | 62 => 0xBF479601#32
  | 63 => 0xBEA67D75#32
  | 64 => 0x3F17D497#32
  | 65 => 0xBF3F2EA2#32
  | 66 => 0xBE667577#32
  | 67 => 0x3F19C1B0#32
  | 68 => 0x3F2C1997#32
  | 69 => 0xBF536B91#32
  | 70 => 0x401C6D86#32
  | 71 => 0xBDE95FF3#32
  | 72 => 0x3F4B3A2E#32
  | 73 => 0x3EB35A9F#32
  | 74 => 0x3F19E6DE#32
  | 75 => 0x3E62FE75#32
  | 76 => 0x3FB43D05#32
  | 77 => 0x3FC51A25#32
  | 78 => 0x3F79F09C#32
  | 79 => 0x3FA774F9#32
  | 80 => 0x3E356E68#32
  | 81 => 0x3F340269#32
  | 82 => 0x4006A33A#32
  | 83 => 0xBE8BF82D#32
  | 84 => 0x3EA80937#32
  | 85 => 0x3E765215#32
  | 86 => 0x3ECE244B#32
  | 87 => 0x3DE7B1FD#32
  | 88 => 0x4004AAA9#32
  | 89 => 0x3F88CD08#32
  | 90 => 0x3FE2C80A#32
  | 91 => 0x3F4271D1#32
  | 92 => 0x3D444E1B#32
  | 93 => 0x3F0F425B#32
  | 94 => 0x40BAABD0#32
  | 95 => 0x3F445E08#32
  | 96 => 0x3F4FB75E#32
  | 97 => 0x3DEBDCF6#32
  | 98 => 0x400AECC5#32
  | 99 => 0xBF825E12#32
  | 100 => 0xBE16A397#32
  | 101 => 0xBF1501AB#32
  | 102 => 0xBEFBF59A#32
  | 103 => 0x3F91A93D#32
  | 104 => 0x3FC25626#32
  | 105 => 0x3D0AB7BA#32
  | 106 => 0x3D4C1535#32
  | 107 => 0x402E04FD#32
  | 108 => 0x3E9BD7CA#32
  | 109 => 0x3EA85E51#32
  | 110 => 0x3FA97008#32
  | 111 => 0x3FC0C464#32
  | 112 => 0xBF205A9E#32
  | 113 => 0x40362C6F#32
  | 114 => 0x3F6EBA7F#32
  | 115 => 0x3E83CEBD#32
  | 116 => 0x40551BBE#32
  | 117 => 0xBF6057AD#32
  | 118 => 0x3EBEACCD#32
  | 119 => 0x3F949A60#32
  | 120 => 0xBEAAC03E#32
  | 121 => 0x40154BD7#32
  | 122 => 0x3E7CAC2C#32
  | 123 => 0x4015FC3B#32
  | 124 => 0x4046E4E0#32
  | 125 => 0xBE45A0B4#32
  | 126 => 0xBCC1EDB5#32
  | 127 => 0x3F982068#32
  | _ => 0#32

noncomputable abbrev lit0t0_42 (i : Nat) : BitVec 32 := match i % 128 with
  | 0 => 0x3FB4ABC9#32
  | 1 => 0x3FE42260#32
  | 2 => 0x40153E6C#32
  | 3 => 0xBF051DA8#32
  | 4 => 0x3E60E454#32
  | 5 => 0xBF02D2EF#32
  | 6 => 0x3F3A8C59#32
  | 7 => 0x3F9B544D#32
  | 8 => 0x3FAA460E#32
  | 9 => 0x3ECBAB97#32
  | 10 => 0xBE699D37#32
  | 11 => 0xBF7E28A4#32
  | 12 => 0x3FC913C4#32
  | 13 => 0x3F6071F0#32
  | 14 => 0x401AC50F#32
  | 15 => 0x3EEF8806#32
  | 16 => 0xBCF0879C#32
  | 17 => 0x3F8E3E2A#32
  | 18 => 0x3D6CE986#32
  | 19 => 0x401AD017#32
  | 20 => 0x3FAB1840#32
  | 21 => 0x3F5F56DC#32
  | 22 => 0xBE053010#32
  | 23 => 0xBF3065B5#32
  | 24 => 0x3EB8D469#32
  | 25 => 0xBE1CA54A#32
  | 26 => 0xBED34944#32
  | 27 => 0x3F761017#32
  | 28 => 0xBEED0F27#32
  | 29 => 0x3F82B26A#32
  | 30 => 0x3F94D6C2#32
  | 31 => 0x3FCB6D7F#32
  | 32 => 0xBF253083#32
  | 33 => 0xBF8562FC#32
  | 34 => 0x3F8B9DE7#32
  | 35 => 0xBF4E8CD1#32
  | 36 => 0x3E81CB98#32
  | 37 => 0x3FBFA64E#32
  | 38 => 0xBED9F837#32
  | 39 => 0x3E658550#32
  | 40 => 0x3F1AC746#32
  | 41 => 0xBCCBE82B#32
  | 42 => 0x3E306AC1#32
  | 43 => 0xBFBE31B6#32
  | 44 => 0x3EFD991E#32
  | 45 => 0x400098B0#32
  | 46 => 0xBDCDDEF9#32
  | 47 => 0x401E2331#32
  | 48 => 0x3FD9DAB4#32
  | 49 => 0xBE287A82#32
  | 50 => 0x40BDD404#32
  | 51 => 0xBF9DC363#32
  | 52 => 0x3F992CF4#32
  | 53 => 0x3FAE990B#32
  | 54 => 0x4044FE4F#32
  | 55 => 0x3F37ECE5#32
  | 56 => 0x3F9CC748#32
  | 57 => 0x3DD4E792#32
  | 58 => 0xBF69CBAC#32
  | 59 => 0x3F2B0899#32
  | 60 => 0x3F4EF281#32
  | 61 => 0xBEC12D35#32
  | 62 => 0xBD99E83F#32
  | 63 => 0xBFB33DE7#32
  | 64 => 0x40295D41#32
  | 65 => 0xBEE97CDA#32
  | 66 => 0x3FB9C276#32
  | 67 => 0xBEFD49D6#32
  | 68 => 0xBF74F02F#32
  | 69 => 0x3F65003C#32
  | 70 => 0x3E9AF47E#32
  | 71 => 0x3EC29366#32
  | 72 => 0x3E0691DC#32
  | 73 => 0x3EB12F6A#32
  | 74 => 0x3FBF7703#32
  | 75 => 0x3FFFD904#32
  | 76 => 0x3F2633D8#32
  | 77 => 0xBF429949#32
  | 78 => 0xBF957B59#32
  | 79 => 0x3E510485#32
  | 80 => 0xBE6C13B3#32
  | 81 => 0xBDDD9FA4#32
  | 82 => 0xBDAA184D#32
  | 83 => 0x4049FB0C#32
  | 84 => 0x4009573D#32
  | 85 => 0x3EF543EE#32
  | 86 => 0x3F876773#32
  | 87 => 0x3F099392#32
  | 88 => 0xBE86F4CC#32
  | 89 => 0x40043017#32
  | 90 => 0xBF66BAD6#32
  | 91 => 0xBF829704#32
  | 92 => 0xBD9CFD28#32
  | 93 => 0x3FFB4CD5#32
  | 94 => 0xBEBB4A22#32
  | 95 => 0xBF317946#32
  | 96 => 0x3ED8147D#32
  | 97 => 0x3FAA4E11#32
  | 98 => 0xBC464F05#32
  | 99 => 0xBEB02B31#32
  | 100 => 0xBF5E52D2#32
  | 101 => 0x3F7FE3D0#32
  | 102 => 0xBF7D7022#32
  | 103 => 0x3FF93005#32
  | 104 => 0x4069AF78#32
  | 105 => 0xBEC91805#32
  | 106 => 0xBF96FB6A#32
  | 107 => 0xBF2ADCDC#32
  | 108 => 0xBD520005#32
  | 109 => 0xBE9EA1DE#32
  | 110 => 0x401EA2F4#32
  | 111 => 0xBD62AD81#32
  | 112 => 0x4022511A#32
  | 113 => 0x400738E9#32
  | 114 => 0xBFB370B4#32
  | 115 => 0xBECEFF76#32
  | 116 => 0x402F1FC7#32
  | 117 => 0x3EB52E67#32
  | 118 => 0x3F539990#32
  | 119 => 0x400F4F68#32
  | 120 => 0x40067F8A#32
  | 121 => 0x3D566C6C#32
  | 122 => 0x3F75739A#32
  | 123 => 0x3FB416E6#32
  | 124 => 0x3EC45450#32
  | 125 => 0x405AC9DB#32
  | 126 => 0xBF987FBF#32
  | 127 => 0xBEDF33D8#32
  | _ => 0#32

noncomputable abbrev lit0t0_43 (i : Nat) : BitVec 32 := match i % 128 with
  | 0 => 0xBE7FCA23#32
  | 1 => 0x4015D66B#32
  | 2 => 0x3FD7E486#32
  | 3 => 0xBBB3433F#32
  | 4 => 0x3F18E873#32
  | 5 => 0xBE1E41A1#32
  | 6 => 0x3F187356#32
  | 7 => 0xBF8F36FF#32
  | 8 => 0x40219F52#32
  | 9 => 0x3D57C050#32
  | 10 => 0xBF7DB054#32
  | 11 => 0x3F1AF7DA#32
  | 12 => 0x3ECB0CC1#32
  | 13 => 0x408943A3#32
  | 14 => 0x3EE3489E#32
  | 15 => 0xBEC99565#32
  | 16 => 0x3F918771#32
  | 17 => 0x3D6C5EFF#32
  | 18 => 0x3F3EC374#32
  | 19 => 0x3E8BD101#32
  | 20 => 0x3DACF86F#32
  | 21 => 0xBEC5D212#32
  | 22 => 0xBE271288#32
  | 23 => 0x3E2A7445#32
  | 24 => 0xBF92EB64#32
  | 25 => 0xBEC61E2B#32
  | 26 => 0xBE5F6C2E#32
  | 27 => 0x3ECB22BD#32
  | 28 => 0x3FFB88D0#32
  | 29 => 0xBF74DFBA#32
  | 30 => 0xBF3EFDA0#32
  | 31 => 0x401E4840#32
  | 32 => 0xBDF431AE#32
  | 33 => 0x3F756A6C#32
  | 34 => 0xBF320A85#32
  | 35 => 0xBE62D184#32
  | 36 => 0xBF92161F#32
  | 37 => 0x3FD84051#32
  | 38 => 0xBF5D15F4#32
  | 39 => 0x3EE61CC6#32
  | 40 => 0x3F878A58#32
  | 41 => 0x3ED0FA7B#32
  | 42 => 0x3FB54AC4#32
  | 43 => 0xBE1BACCA#32
  | 44 => 0xBEC21B6C#32
  | 45 => 0x3F979CD4#32
  | 46 => 0x3EACA991#32
  | 47 => 0x404EB7D9#32
  | 48 => 0x3F294F3E#32
  | 49 => 0x3F499025#32
  | 50 => 0x3F0ACA04#32
  | 51 => 0xBE0C4938#32
  | 52 => 0xBE81927C#32
  | 53 => 0x3F5BDE9D#32
  | 54 => 0xBF1E6EB0#32
  | 55 => 0x3F16CFD1#32
  | 56 => 0xBF5522F2#32
  | 57 => 0x4004EE79#32
  | 58 => 0x4025F5B2#32
  | 59 => 0x3FDC1943#32
  | 60 => 0x401BD0AC#32
  | 61 => 0xBE5AF9B1#32
  | 62 => 0xBEC55D07#32
  | 63 => 0x4050424A#32
  | 64 => 0xBF2E56B5#32
  | 65 => 0x3E688551#32
  | 66 => 0x3EA43B58#32
  | 67 => 0x3E268145#32
  | 68 => 0x3F681FCC#32
  | 69 => 0x402791D8#32
  | 70 => 0x3EA2FE31#32
  | 71 => 0xBF3D3118#32
  | 72 => 0x3F100A69#32
  | 73 => 0x3F87FCC9#32
  | 74 => 0x405FF4D7#32
  | 75 => 0x404526A4#32
  | 76 => 0xBE9324E2#32
  | 77 => 0x3F145A22#32
  | 78 => 0xBCD72DE7#32
  | 79 => 0x3DD89E08#32
  | 80 => 0xBF770186#32
  | 81 => 0xBF0EA04C#32
  | 82 => 0x3F2E7DAE#32
  | 83 => 0xBE296014#32
  | 84 => 0x402F04A0#32
  | 85 => 0x3FA31504#32
  | 86 => 0x3EE3888E#32
  | 87 => 0xBED5E3BF#32
  | 88 => 0x3E4B4C25#32
  | 89 => 0xBF6A15AD#32
  | 90 => 0x3E5FA9A2#32
  | 91 => 0x3F9EB6BB#32
  | 92 => 0x3F5E73BC#32
  | 93 => 0x4022A391#32
  | 94 => 0x4084E181#32
  | 95 => 0xBFB63EAE#32
  | 96 => 0xBECB662F#32
  | 97 => 0x3F0EC6C4#32
  | 98 => 0x40305A95#32
  | 99 => 0x3F37F559#32
  | 100 => 0x3EF33E2E#32
  | 101 => 0x3EB2D942#32
  | 102 => 0xBEB5EF1B#32
  | 103 => 0x3F92D850#32
  | 104 => 0x3F18C99D#32
  | 105 => 0xBE36FFC1#32
  | 106 => 0x3E75D403#32
  | 107 => 0x3FD4FED5#32
  | 108 => 0xBF4638AA#32
  | 109 => 0xBD1075A0#32
  | 110 => 0x3F35A43F#32
  | 111 => 0x3EB526B9#32
  | 112 => 0xBF9353FE#32
  | 113 => 0xBF7FB9B6#32
  | 114 => 0x3FA7D432#32
  | 115 => 0x3FB14F45#32
  | 116 => 0x3E99B768#32
  | 117 => 0xBF5D5732#32
  | 118 => 0xBD5C36E6#32
  | 119 => 0x3FE3C212#32
  | 120 => 0x3FA82ED4#32
  | 121 => 0xBF02AC4A#32
  | 122 => 0x3F301960#32
  | 123 => 0x3F0F6B5F#32
  | 124 => 0x3EBE8BD5#32
  | 125 => 0xBD590F6C#32
  | 126 => 0xBD09C716#32
  | 127 => 0x3F2A7378#32
  | _ => 0#32

noncomputable abbrev lit0t0_44 (i : Nat) : BitVec 32 := match i % 128 with
  | 0 => 0xBF3C2FD7#32
  | 1 => 0xBF53B754#32
  | 2 => 0xBE44C844#32
  | 3 => 0xBF06228A#32
  | 4 => 0xBDC11E4E#32
  | 5 => 0x3FA00B9B#32
  | 6 => 0x3F14B582#32
  | 7 => 0xBE9FBD4E#32
  | 8 => 0x4014F4A2#32
  | 9 => 0xBF00AE12#32
  | 10 => 0x400CF351#32
  | 11 => 0xBFA2BEA9#32
  | 12 => 0x3F5FFB06#32
  | 13 => 0xBF146B39#32
  | 14 => 0x4009F699#32
  | 15 => 0x4095CBEA#32
  | 16 => 0xBF27E81E#32
  | 17 => 0x3F303D25#32
  | 18 => 0xBEBF73CC#32
  | 19 => 0x4043D2CE#32
  | 20 => 0xBC677383#32
  | 21 => 0x3F1279E6#32
  | 22 => 0xBF0F461A#32
  | 23 => 0x3ECD79FE#32
  | 24 => 0x3F756DA6#32
  | 25 => 0xBED815F3#32
  | 26 => 0x4048ED23#32
  | 27 => 0x3F78D322#32
  | 28 => 0xBE95FD14#32
  | 29 => 0x401AE1DF#32
  | 30 => 0xBE9001FF#32
  | 31 => 0x40236B0C#32
  | 32 => 0x404B8290#32
  | 33 => 0x40050FF3#32
  | 34 => 0x3F8DE6DB#32
  | 35 => 0xBEB74FE6#32
  | 36 => 0x404FB9B0#32
  | 37 => 0x3FF0BC91#32
  | 38 => 0x3F830D7E#32
  | 39 => 0x400AE2D1#32
  | 40 => 0x3FA77C9F#32
  | 41 => 0xBE35A849#32
  | 42 => 0x3E30FD38#32
  | 43 => 0x3EE2B04F#32
  | 44 => 0x3F361DB5#32
  | 45 => 0x3DD19137#32
  | 46 => 0x3FB8E811#32
  | 47 => 0xBEAFFF4D#32
  | 48 => 0x3FBBC416#32
  | 49 => 0x3D6B611A#32
  | 50 => 0xBF62104E#32
  | 51 => 0xBE824B27#32
  | 52 => 0x3F04E38D#32
  | 53 => 0x3EE5E592#32
  | 54 => 0xBDB92679#32
  | 55 => 0x4024555D#32
  | 56 => 0xBEE9BB53#32
  | 57 => 0xBF4F212C#32
  | 58 => 0xBF0356DF#32
  | 59 => 0x3F440E9D#32
  | 60 => 0x3F4792BB#32
  | 61 => 0xBAD3C030#32
  | 62 => 0xBF3277A6#32
  | 63 => 0xBD91BC8F#32
  | 64 => 0x3FE8AABA#32
  | 65 => 0x3F113186#32
  | 66 => 0x3DBB713D#32
  | 67 => 0x3F193AE3#32
  | 68 => 0x3F358239#32
  | 69 => 0xBFAA727C#32
  | 70 => 0xBF99211E#32
  | 71 => 0xBEB92FC5#32
  | 72 => 0xBEFFC0C4#32
  | 73 => 0xBE25364C#32
  | 74 => 0x3F4AD6AA#32
  | 75 => 0x3F798A6D#32
  | 76 => 0xBFAFDB36#32
  | 77 => 0x3FB75C17#32
  | 78 => 0x4003E4BD#32
  | 79 => 0xBF791AE6#32
  | 80 => 0x4003DC11#32
  | 81 => 0xBF1CC4C8#32
  | 82 => 0x3F59EB83#32
  | 83 => 0x3E6053F4#32
  | 84 => 0xBF1FF2EA#32
  | 85 => 0x3EC90C40#32
  | 86 => 0xBD9669CA#32
  | 87 => 0x4020C148#32
  | 88 => 0xBFA230B1#32
  | 89 => 0xBBDA3695#32
  | 90 => 0xBE066D33#32
  | 91 => 0x404EFBAE#32
  | 92 => 0x40891690#32
  | 93 => 0xBE5815A8#32
  | 94 => 0x3E968293#32
  | 95 => 0x3F3A1CB4#32
  | 96 => 0xBF4EB793#32
  | 97 => 0x400CF323#32
  | 98 => 0x3E89865B#32
  | 99 => 0xBF4A25CE#32
  | 100 => 0x3DC190F5#32
  | 101 => 0xBEB29D66#32
  | 102 => 0xBE6473A5#32
  | 103 => 0x3ED24FC2#32
  | 104 => 0x4009F181#32
  | 105 => 0x3EEB8659#32
  | 106 => 0xBF5E2BAE#32
  | 107 => 0x3E3CEA76#32
  | 108 => 0xBD770E2E#32
  | 109 => 0x3E37A0B6#32
  | 110 => 0x3FE99427#32
  | 111 => 0xBF666F8A#32
  | 112 => 0x403FD6B2#32
  | 113 => 0x3F0A3A40#32
  | 114 => 0x409A5B62#32
  | 115 => 0x3DAC42DA#32
  | 116 => 0xBFA4B9CA#32
  | 117 => 0xBEF12CF2#32
  | 118 => 0x3EBAAFBD#32
  | 119 => 0xBEE26181#32
  | 120 => 0x3EC4B65E#32
  | 121 => 0x3FC30C9F#32
  | 122 => 0x3DB4B0A0#32
  | 123 => 0xBF9A6A5A#32
  | 124 => 0x3EF3C630#32
  | 125 => 0x3F9118D3#32
  | 126 => 0x3F3461F6#32
  | 127 => 0x3FF625A4#32
  | _ => 0#32

noncomputable abbrev lit0t0_45 (i : Nat) : BitVec 32 := match i % 128 with
  | 0 => 0xBEFB3A21#32
  | 1 => 0x3FC28D9C#32
  | 2 => 0xBF9C5A40#32
  | 3 => 0x3E32506F#32
  | 4 => 0x3F9E4847#32
  | 5 => 0x4003877F#32
  | 6 => 0xBE8F0C83#32
  | 7 => 0xBC98E2FF#32
  | 8 => 0xBF135A1B#32
  | 9 => 0x3DD853BD#32
  | 10 => 0xBF309CAB#32
  | 11 => 0xBF1BC070#32
  | 12 => 0x3F5790C8#32
  | 13 => 0x3F385941#32
  | 14 => 0x40279B4B#32
  | 15 => 0x3F1B0197#32
  | 16 => 0x3EF393DE#32
  | 17 => 0x3F107A34#32
  | 18 => 0x3F385689#32
  | 19 => 0x40800A1E#32
  | 20 => 0x3FB01B50#32
  | 21 => 0x3F9871A0#32
  | 22 => 0xBEB14F1B#32
  | 23 => 0x3FD68563#32
  | 24 => 0xBF3CB644#32
  | 25 => 0x3FC306CD#32
  | 26 => 0xBF01A830#32
  | 27 => 0x3FEEC46D#32
  | 28 => 0x3F8B1576#32
  | 29 => 0xBD665201#32
  | 30 => 0x3FC93D91#32
  | 31 => 0x3F893566#32
  | 32 => 0xBED4DA62#32
  | 33 => 0x3F8841D5#32
  | 34 => 0xBFA03303#32
  | 35 => 0x40208464#32
  | 36 => 0x3FEA536A#32
  | 37 => 0xBEE59644#32
  | 38 => 0x3F91BB32#32
  | 39 => 0x3DB801F2#32
  | 40 => 0x401875AC#32
  | 41 => 0xBD72B722#32
  | 42 => 0x40915BC3#32
  | 43 => 0x404CC6CD#32
  | 44 => 0xBE49D37A#32
  | 45 => 0x3FA1AB52#32
  | 46 => 0x40098C0B#32
  | 47 => 0x3EAFD169#32
  | 48 => 0x3FF9C985#32
  | 49 => 0x3F164943#32
  | 50 => 0x4000E2E8#32
  | 51 => 0x3FE37F1F#32
  | 52 => 0x400F7CB2#32
  | 53 => 0xBFB44146#32
  | 54 => 0x3FEB8DB1#32
  | 55 => 0x4001C291#32
  | 56 => 0x3ED160E4#32
  | 57 => 0x3F154700#32
  | 58 => 0xBE283F7D#32
  | 59 => 0x3FF7CF09#32
  | 60 => 0xBF9C1AC0#32
  | 61 => 0xBF78C0EC#32
  | 62 => 0x3F075B91#32
  | 63 => 0x3F8FB9E8#32
  | 64 => 0x3F3A4952#32
  | 65 => 0xBDEB767F#32
  | 66 => 0x4065D132#32
  | 67 => 0x400C0AE2#32
  | 68 => 0xBED7E7E9#32
  | 69 => 0x3ED754B3#32
  | 70 => 0x3F36522F#32
  | 71 => 0x3E2DF511#32
  | 72 => 0xBF1EC622#32
  | 73 => 0x3F6E07A8#32
  | 74 => 0x3D90B6BF#32
  | 75 => 0x3E998B15#32
  | 76 => 0x3F2691A0#32
  | 77 => 0xBF857C95#32
  | 78 => 0x3FE6A9B2#32
  | 79 => 0x3FA37126#32
  | 80 => 0xBE8B7123#32
  | 81 => 0x3FF9D330#32
  | 82 => 0x3F5F4D53#32
  | 83 => 0xBE926DB1#32
  | 84 => 0x3F85250E#32
  | 85 => 0xBE9D640E#32
  | 86 => 0x4043E914#32
  | 87 => 0x3E519427#32
  | 88 => 0x3EF4D03E#32
  | 89 => 0x40989F67#32
  | 90 => 0x3F94F2A3#32
  | 91 => 0xBD8819B7#32
  | 92 => 0xBD5EBE8A#32
  | 93 => 0x3F4EE476#32
  | 94 => 0x3F418F6A#32
  | 95 => 0x4021EC79#32
  | 96 => 0xBEF843DE#32
  | 97 => 0x3FB1A06F#32
  | 98 => 0x3F21F292#32
  | 99 => 0x3F12B6D1#32
  | 100 => 0xBFC02435#32
  | 101 => 0xBF658472#32
  | 102 => 0x3F739DBC#32
  | 103 => 0x3FCE7DE2#32
  | 104 => 0xBE5DA230#32
  | 105 => 0xBF4D445F#32
  | 106 => 0x3E9C1C30#32
  | 107 => 0x3E8FF90A#32
  | 108 => 0x3F83A95A#32
  | 109 => 0xBF10E9B3#32
  | 110 => 0xBF37768F#32
  | 111 => 0x3F955C36#32
  | 112 => 0x3FD8493A#32
  | 113 => 0x3E186AC0#32
  | 114 => 0x4078332C#32
  | 115 => 0xBE08A1B8#32
  | 116 => 0xBE95D967#32
  | 117 => 0x3F99B010#32
  | 118 => 0x3EE0774A#32
  | 119 => 0x3EC6E573#32
  | 120 => 0xBE5ED09D#32
  | 121 => 0xBEDE28F1#32
  | 122 => 0x403FE5CC#32
  | 123 => 0xBD1B9FBC#32
  | 124 => 0x3F89A696#32
  | 125 => 0x3F86469E#32
  | 126 => 0xBD1B18D3#32
  | 127 => 0xBF926D7C#32
  | _ => 0#32

noncomputable abbrev lit0t0_46 (i : Nat) : BitVec 32 := match i % 128 with
  | 0 => 0x3D8B29A8#32
  | 1 => 0x3F8AA6BC#32
  | 2 => 0x3FC7E454#32
  | 3 => 0x408713EA#32
  | 4 => 0x3F7D2770#32
  | 5 => 0x3FD7FC60#32
  | 6 => 0x403071C7#32
  | 7 => 0x4001EEC9#32
  | 8 => 0xBF992B42#32
  | 9 => 0x40329889#32
  | 10 => 0xBE43219E#32
  | 11 => 0x3F0C5549#32
  | 12 => 0xBD8420BB#32
  | 13 => 0x3F09EB1D#32
  | 14 => 0xBF1898C0#32
  | 15 => 0x404BB75E#32
  | 16 => 0xBF3F6BD8#32
  | 17 => 0xBEB5EA8A#32
  | 18 => 0xBE2ED46D#32
  | 19 => 0x4010F50E#32
  | 20 => 0xBEF95853#32
  | 21 => 0x3F3FFB7E#32
  | 22 => 0x3F320C8D#32
  | 23 => 0x3FBDB4C0#32
  | 24 => 0x3E05A3B1#32
  | 25 => 0x3E604EEC#32
  | 26 => 0xBCCAD0B2#32
  | 27 => 0xBFE9EDBD#32
  | 28 => 0xBEDE8F28#32
  | 29 => 0x4005F924#32
  | 30 => 0xBF826842#32
  | 31 => 0x3E6C8999#32
  | 32 => 0x3F50B836#32
  | 33 => 0xBF3AA4A3#32
  | 34 => 0x3F29D7A7#32
  | 35 => 0xBF6D8D6C#32
  | 36 => 0x3FD54D35#32
  | 37 => 0x3ED76C02#32
  | 38 => 0x3EEB9E39#32
  | 39 => 0x3F33C91B#32
  | 40 => 0xBEC1583A#32
  | 41 => 0x3F9EE1A3#32
  | 42 => 0x3EA9347C#32
  | 43 => 0xBCF15C44#32
  | 44 => 0x3F966619#32
  | 45 => 0x41158B84#32
  | 46 => 0x4025E54B#32
  | 47 => 0x3F259C8C#32
  | 48 => 0x3FAAE2CB#32
  | 49 => 0x3F5ED3CC#32
  | 50 => 0xBECAE9FA#32
  | 51 => 0xBEAC7FA1#32
  | 52 => 0xBED844B3#32
  | 53 => 0x3DEA924E#32
  | 54 => 0x3F5F5EE5#32
  | 55 => 0xBF156DA8#32
  | 56 => 0xBE7044DC#32
  | 57 => 0x3EF6B84A#32
  | 58 => 0x3E86F244#32
  | 59 => 0x3ED6CB59#32
  | 60 => 0x3FE470E9#32
  | 61 => 0x3EC4AC91#32
  | 62 => 0xBEA38065#32
  | 63 => 0xBEC9F346#32
  | 64 => 0xBFCE3092#32
  | 65 => 0x4086DCE2#32
  | 66 => 0xBE4EBBF9#32
  | 67 => 0xBF34E995#32
  | 68 => 0x3FF249B9#32
  | 69 => 0x3FF783F4#32
  | 70 => 0x3E21178F#32
  | 71 => 0x3F9C04C2#32
  | 72 => 0x403F4697#32
  | 73 => 0xBEA79246#32
  | 74 => 0x406083AB#32
  | 75 => 0x405BA93A#32
  | 76 => 0xBE1FEEB2#32
  | 77 => 0x3FC62A0C#32
  | 78 => 0xBF6665BA#32
  | 79 => 0x402DB42D#32
  | 80 => 0xBE05EE57#32
  | 81 => 0x3F78DE0E#32
  | 82 => 0x3DF430B8#32
  | 83 => 0x3FD0B974#32
  | 84 => 0x3FF24697#32
  | 85 => 0x3EAA8A68#32
  | 86 => 0x3F4F13EF#32
  | 87 => 0x3E301DA9#32
  | 88 => 0x3F2802A1#32
  | 89 => 0xBE7BE1F9#32
  | 90 => 0x3F4E1FBA#32
  | 91 => 0x404C1BE3#32
  | 92 => 0x3F214C56#32
  | 93 => 0x3DBF6D17#32
  | 94 => 0xBF1B4FF6#32
  | 95 => 0xBEBFA1EB#32
  | 96 => 0x3FC7A1F1#32
  | 97 => 0x3F04C32F#32
  | 98 => 0x3EA7130E#32
  | 99 => 0x3E488F10#32
  | 100 => 0x3F6690B9#32
  | 101 => 0x402DBFAC#32
  | 102 => 0xBF907882#32
  | 103 => 0x3EC21AE5#32
  | 104 => 0x3F8CA0C3#32
  | 105 => 0x3F1A585B#32
  | 106 => 0x3F92BF12#32
  | 107 => 0x3E4DF893#32
  | 108 => 0xBED8D0B5#32
  | 109 => 0xBF4F3EF7#32
  | 110 => 0x3F0CBD2E#32
  | 111 => 0x3FE69A97#32
  | 112 => 0xBE21F67A#32
  | 113 => 0xBEB1FC75#32
  | 114 => 0x3E934321#32
  | 115 => 0xBF7308BC#32
  | 116 => 0x3FC81A09#32
  | 117 => 0x409A1238#32
  | 118 => 0x3F27CB96#32
  | 119 => 0x3F356FDC#32
  | 120 => 0xBD0548A9#32
  | 121 => 0xBEDAD55D#32
  | 122 => 0x3ECBCA54#32
  | 123 => 0x3F88415A#32
  | 124 => 0x40274C36#32
  | 125 => 0x3F1FF0DF#32
  | 126 => 0xBF507C42#32
  | 127 => 0x3F906AD9#32
  | _ => 0#32

noncomputable abbrev lit0t0_47 (i : Nat) : BitVec 32 := match i % 128 with
  | 0 => 0xBEF42FD2#32
  | 1 => 0x3ED3FE54#32
  | 2 => 0x3FCE1714#32
  | 3 => 0xBF03CE1F#32
  | 4 => 0x3F46CA1B#32
  | 5 => 0x3EC763AB#32
  | 6 => 0x3E687AA1#32
  | 7 => 0xBF411CAC#32
  | 8 => 0x3EDF3080#32
  | 9 => 0x4058ACA2#32
  | 10 => 0x3F150FC2#32
  | 11 => 0x3E3C4054#32
  | 12 => 0x3F16F469#32
  | 13 => 0x3D60997B#32
  | 14 => 0xBE8C57AE#32
  | 15 => 0x3F2288D3#32
  | 16 => 0xBE82A145#32
  | 17 => 0xBE472629#32
  | 18 => 0x3F338A62#32
  | 19 => 0x3FCFC71D#32
  | 20 => 0x4012808B#32
  | 21 => 0x3E2CAB0B#32
  | 22 => 0xBCA49B49#32
  | 23 => 0x3F7C7962#32
  | 24 => 0x3EA7A82A#32
  | 25 => 0x406EEE1F#32
  | 26 => 0x3EE5A010#32
  | 27 => 0x3F2F26E3#32
  | 28 => 0xBFA906AA#32
  | 29 => 0xBF074154#32
  | 30 => 0x3F0119DC#32
  | 31 => 0x3E9970B7#32
  | 32 => 0xBF36A5B9#32
  | 33 => 0xBEF0F304#32
  | 34 => 0x3E4E1B1E#32
  | 35 => 0xBFA2721F#32
  | 36 => 0x3F41F421#32
  | 37 => 0x401DE165#32
  | 38 => 0x3F6680E8#32
  | 39 => 0x3ECB9B05#32
  | 40 => 0x3BFCC16A#32
  | 41 => 0xBF61109A#32
  | 42 => 0x3EAE2AB9#32
  | 43 => 0x4056F1DD#32
  | 44 => 0xBF27D2FD#32
  | 45 => 0xBF4EF0BF#32
  | 46 => 0xBE298762#32
  | 47 => 0xBDCDCCB7#32
  | 48 => 0x3EAB9E99#32
  | 49 => 0x3F1A738D#32
  | 50 => 0x3FC7D7BF#32
  | 51 => 0x3D35C957#32
  | 52 => 0xBE867C68#32
  | 53 => 0x3F01FAF6#32
  | 54 => 0x3E815B09#32
  | 55 => 0xBF48B8D3#32
  | 56 => 0x3E927394#32
  | 57 => 0xBEDAA347#32
  | 58 => 0x3EB55C38#32
  | 59 => 0xBEDE35B0#32
  | 60 => 0x3EF36D87#32
  | 61 => 0xBFA5CDEA#32
  | 62 => 0x3F9046D4#32
  | 63 => 0x3EC93F89#32
  | 64 => 0x3F7F9EAD#32
  | 65 => 0x3F6F6C4F#32
  | 66 => 0x3E3F7135#32
  | 67 => 0x3F18775E#32
  | 68 => 0x3F695EEA#32
  | 69 => 0x3F696662#32
  | 70 => 0xBF257386#32
  | 71 => 0x3E4761C5#32
  | 72 => 0xBFC9926C#32
  | 73 => 0xBFC68EC0#32
  | 74 => 0xBF112050#32
  | 75 => 0x3DFEC4D7#32
  | 76 => 0x3FAC920A#32
  | 77 => 0x3EDBE6EE#32
  | 78 => 0x3F367681#32
  | 79 => 0x40708651#32
  | 80 => 0xBF858EC8#32
  | 81 => 0x3F96AC91#32
  | 82 => 0xBED76968#32
  | 83 => 0xBFA4A5CD#32
  | 84 => 0x408C09C2#32
  | 85 => 0xBE98C7BE#32
  | 86 => 0xBF42B8C3#32
  | 87 => 0xBE6501A3#32
  | 88 => 0x3F852D9E#32
  | 89 => 0xBF40BB4B#32
  | 90 => 0x3F3EE74F#32
  | 91 => 0xBF90B8F1#32
  | 92 => 0xBE334DA7#32
  | 93 => 0xBDC72755#32
  | 94 => 0x3FFB890B#32
  | 95 => 0x3FDEDF61#32
  | 96 => 0x3F8C8B19#32
  | 97 => 0xBED2E864#32
  | 98 => 0xBEFDE729#32
  | 99 => 0x3FB07C3A#32
  | 100 => 0x3E4C8569#32
  | 101 => 0xBFE347B3#32
  | 102 => 0x3F6F6508#32
  | 103 => 0x3E27C934#32
  | 104 => 0x3F1D0D55#32
  | 105 => 0xBEA15FA5#32
  | 106 => 0x3F36E61D#32
  | 107 => 0xBE7AD7C2#32
  | 108 => 0xBFA15036#32
  | 109 => 0xBF7C30DF#32
  | 110 => 0x3F94AF0A#32
  | 111 => 0xBF1B1757#32
  | 112 => 0xBFA564E6#32
  | 113 => 0xBEC66B34#32
  | 114 => 0x3F3134B1#32
  | 115 => 0x3FBDAEF8#32
  | 116 => 0xBE5B66C7#32
  | 117 => 0x3C635FCA#32
  | 118 => 0xBE857011#32
  | 119 => 0x3EB03404#32
  | 120 => 0xBEDA55F6#32
  | 121 => 0x4000F8EE#32
  | 122 => 0x403F4E62#32
  | 123 => 0x3FF068B8#32
  | 124 => 0xBF6B84B6#32
  | 125 => 0xBF923566#32
  | 126 => 0x3F89005E#32
  | 127 => 0x3FAE027C#32
  | _ => 0#32

noncomputable abbrev lit0t0_48 (i : Nat) : BitVec 32 := match i % 128 with
  | 0 => 0x3FC4F45F#32
  | 1 => 0xBF81A60A#32
  | 2 => 0xBE269799#32
  | 3 => 0xBF844CD6#32
  | 4 => 0x3EAEE495#32
  | 5 => 0x3EA465C9#32
  | 6 => 0x3F8B0AA3#32
  | 7 => 0xBE1CCFF4#32
  | 8 => 0x3D787BC1#32
  | 9 => 0xBDBE48A3#32
  | 10 => 0xBF8E0DE8#32
  | 11 => 0x404F14C4#32
  | 12 => 0x3ED7E4F0#32
  | 13 => 0xBF6C7988#32
  | 14 => 0x3F71F98B#32
  | 15 => 0x3FA49477#32
  | 16 => 0x3E1F9975#32
  | 17 => 0x3F65EA8C#32
  | 18 => 0x3FE907C3#32
  | 19 => 0x3F327B09#32
  | 20 => 0x403DB9FF#32
  | 21 => 0x3F01C202#32
  | 22 => 0xBEB158C7#32
  | 23 => 0x4010864F#32
  | 24 => 0x3F0541FE#32
  | 25 => 0x3EB22B2E#32
  | 26 => 0xBF0163E3#32
  | 27 => 0x3FC4E088#32
  | 28 => 0x3F5F4232#32
  | 29 => 0xBF4AA1A4#32
  | 30 => 0x3F43554E#32
  | 31 => 0xBEEAD91D#32
  | 32 => 0xBF12A7DE#32
  | 33 => 0xBFB123E0#32
  | 34 => 0x3F2AF3A8#32
  | 35 => 0x3EAED575#32
  | 36 => 0x3FFFB30A#32
  | 37 => 0x3F624BD2#32
  | 38 => 0x3FE8E90F#32
  | 39 => 0x3FA545E5#32
  | 40 => 0x3ED9B2E3#32
  | 41 => 0x3EAAE34B#32
  | 42 => 0x3EE314A0#32
  | 43 => 0xBEB9C7CB#32
  | 44 => 0xBEA0E0D1#32
  | 45 => 0xBF97BE72#32
  | 46 => 0xBEB33AC8#32
  | 47 => 0x3FA6C62F#32
  | 48 => 0x3DB8E448#32
  | 49 => 0x3F96958B#32
  | 50 => 0x3F921450#32
  | 51 => 0x403B6D5D#32
  | 52 => 0x3CFC15B0#32
  | 53 => 0x400DB6F7#32
  | 54 => 0xBF6F7DC0#32
  | 55 => 0x3F0511E8#32
  | 56 => 0x3E8F7693#32
  | 57 => 0x3F13A006#32
  | 58 => 0x402ED03F#32
  | 59 => 0x3E2D18A1#32
  | 60 => 0xBF174006#32
  | 61 => 0x3EDEFE37#32
  | 62 => 0xBEAA4033#32
  | 63 => 0x3DBFF9B0#32
  | 64 => 0xBF01EDF2#32
  | 65 => 0x3F0CF9ED#32
  | 66 => 0x4012BCA6#32
  | 67 => 0x3F77AB38#32
  | 68 => 0x3F8C730A#32
  | 69 => 0x3E3D33ED#32
  | 70 => 0xBE72D858#32
  | 71 => 0xBE63EC94#32
  | 72 => 0xBD5DC827#32
  | 73 => 0x3F952954#32
  | 74 => 0xBEB6FBBF#32
  | 75 => 0x3FBAD522#32
  | 76 => 0x3FD7C486#32
  | 77 => 0x3EDC27F9#32
  | 78 => 0x3EFC115A#32
  | 79 => 0x3F942D86#32
  | 80 => 0xC00E9F46#32
  | 81 => 0xBD0ED9D3#32
  | 82 => 0xBF933848#32
  | 83 => 0x3E9E69FA#32
  | 84 => 0x3FA3EBEA#32
  | 85 => 0x3F397AD6#32
  | 86 => 0x3E8A88BB#32
  | 87 => 0x3F0B756E#32
  | 88 => 0xBF796484#32
  | 89 => 0x3E89D2AB#32
  | 90 => 0x3B8405FF#32
  | 91 => 0x3F6E720E#32
  | 92 => 0xBF12AF08#32
  | 93 => 0x3E098C24#32
  | 94 => 0xBF92B31B#32
  | 95 => 0xBE7A9098#32
  | 96 => 0xBFA779F8#32
  | 97 => 0x3F481426#32
  | 98 => 0x40419985#32
  | 99 => 0x3D89EEA5#32
  | 100 => 0x3F8704BA#32
  | 101 => 0x3F49FAD2#32
  | 102 => 0x3F9B6D80#32
  | 103 => 0x3F866A53#32
  | 104 => 0xBF269890#32
  | 105 => 0x3FA0AD8C#32
  | 106 => 0x3BB75F9B#32
  | 107 => 0x3DAE33D1#32
  | 108 => 0xBE968F66#32
  | 109 => 0x3F87BE1E#32
  | 110 => 0xBE6F77D3#32
  | 111 => 0xBF84B718#32
  | 112 => 0x3FF6DD31#32
  | 113 => 0xBEC4CF2C#32
  | 114 => 0x3F872166#32
  | 115 => 0xBF185C9C#32
  | 116 => 0x3FD88404#32
  | 117 => 0x3CBB9398#32
  | 118 => 0x402AFAED#32
  | 119 => 0x3E8D1F89#32
  | 120 => 0x401DF15D#32
  | 121 => 0x3EC12656#32
  | 122 => 0x3C2D69DD#32
  | 123 => 0xBE83ADD8#32
  | 124 => 0xBE8BFE5F#32
  | 125 => 0x3F8D75C7#32
  | 126 => 0x3F1BE0A0#32
  | 127 => 0x3F39FA1D#32
  | _ => 0#32

noncomputable abbrev lit0t0_49 (i : Nat) : BitVec 32 := match i % 128 with
  | 0 => 0xBEAC0A96#32
  | 1 => 0x3EBDBA31#32
  | 2 => 0x3E830C5B#32
  | 3 => 0x3EBE20E6#32
  | 4 => 0xBF5FC98C#32
  | 5 => 0x3F24F238#32
  | 6 => 0x3F774BB4#32
  | 7 => 0xBF2BF481#32
  | 8 => 0xBF16D1B6#32
  | 9 => 0x3F742164#32
  | 10 => 0xBF14810A#32
  | 11 => 0x3BC10F4F#32
  | 12 => 0x40967DEC#32
  | 13 => 0x3F77E424#32
  | 14 => 0x3EFFBAEC#32
  | 15 => 0x3FC3A303#32
  | 16 => 0x3DB933C6#32
  | 17 => 0x3F9C0B0D#32
  | 18 => 0xBF01FF22#32
  | 19 => 0x3F4EA027#32
  | 20 => 0xBFBE2263#32
  | 21 => 0xBD408F84#32
  | 22 => 0x3F9EED7F#32
  | 23 => 0x3EBEC530#32
  | 24 => 0x3F407016#32
  | 25 => 0xBFB2C72C#32
  | 26 => 0x3FD2C2AA#32
  | 27 => 0x3EA68BCD#32
  | 28 => 0x3FA0661E#32
  | 29 => 0x3F076879#32
  | 30 => 0x4003062A#32
  | 31 => 0x3FDD8570#32
  | 32 => 0x3B49F998#32
  | 33 => 0xBF8B5CA0#32
  | 34 => 0xBD840143#32
  | 35 => 0x3F0F620C#32
  | 36 => 0xBE40C435#32
  | 37 => 0x3FBF51FE#32
  | 38 => 0xBF8AC62B#32
  | 39 => 0x3F5510A1#32
  | 40 => 0x3F4F71EE#32
  | 41 => 0xBF6F9442#32
  | 42 => 0x3E775CD5#32
  | 43 => 0xBDEA6B1F#32
  | 44 => 0xBF25728F#32
  | 45 => 0x3F5D141C#32
  | 46 => 0xBDD6E5AB#32
  | 47 => 0x3F065B0E#32
  | 48 => 0xBE10BFA6#32
  | 49 => 0xBE7D5B85#32
  | 50 => 0x400C4B43#32
  | 51 => 0x4001F1AF#32
  | 52 => 0x3EA2316B#32
  | 53 => 0x40090EB8#32
  | 54 => 0x3FED50AA#32
  | 55 => 0x3E4F77E0#32
  | 56 => 0x3F8EE206#32
  | 57 => 0xBFC2B2F4#32
  | 58 => 0xBC47AF37#32
  | 59 => 0x3F864477#32
  | 60 => 0x3FC0B4EB#32
  | 61 => 0x3FF1E0A7#32
  | 62 => 0xBEFEBC03#32
  | 63 => 0x3F38021C#32
  | 64 => 0xBD8315C3#32
  | 65 => 0xBF9536F1#32
  | 66 => 0x3F98EDB6#32
  | 67 => 0x405BED97#32
  | 68 => 0x3FB51440#32
  | 69 => 0x405F0BD4#32
  | 70 => 0x3FCEB8C4#32
  | 71 => 0x3FAF6DC1#32
  | 72 => 0x3FA93C7B#32
  | 73 => 0xBD463EC9#32
  | 74 => 0x405E58E0#32
  | 75 => 0xBF6A143C#32
  | 76 => 0x404A42A1#32
  | 77 => 0x3FA6622A#32
  | 78 => 0xBF2D3516#32
  | 79 => 0x40419753#32
  | 80 => 0xBE7015F3#32
  | 81 => 0x4044F474#32
  | 82 => 0x4004F953#32
  | 83 => 0x3FA3D12C#32
  | 84 => 0xBDACA226#32
  | 85 => 0x3F3A8FF1#32
  | 86 => 0x4010DB6D#32
  | 87 => 0xBE962D5B#32
  | 88 => 0x3FD63AE7#32
  | 89 => 0x3FAAAD77#32
  | 90 => 0x3FA2E161#32
  | 91 => 0x3F81A16D#32
  | 92 => 0x3FC58FAE#32
  | 93 => 0xBF05122A#32
  | 94 => 0xBEBE65D6#32
  | 95 => 0x3F17E90E#32
  | 96 => 0xBE6416E6#32
  | 97 => 0xBD998057#32
  | 98 => 0x3FE95D7B#32
  | 99 => 0x3F697053#32
  | 100 => 0xBF631B38#32
  | 101 => 0x3F7BBC66#32
  | 102 => 0x3F01B14E#32
  | 103 => 0xBE8F4015#32
  | 104 => 0x3F86357A#32
  | 105 => 0xBF152AF2#32
  | 106 => 0xBECE9A60#32
  | 107 => 0x3EB40AEF#32
  | 108 => 0x3E772B42#32
  | 109 => 0x3ECCFB2F#32
  | 110 => 0xBE8D31DB#32
  | 111 => 0x3F46A93C#32
  | 112 => 0x3F90FAE9#32
  | 113 => 0x3FB9658E#32
  | 114 => 0x3FDE0E33#32
  | 115 => 0x3F8094EC#32
  | 116 => 0x3EE9CCD8#32
  | 117 => 0x3E8DE467#32
  | 118 => 0x3FC25BA7#32
  | 119 => 0x4065F534#32
  | 120 => 0xBE968A19#32
  | 121 => 0x3F85CD1C#32
  | 122 => 0x3FB27F12#32
  | 123 => 0xBF266303#32
  | 124 => 0x3DF3F37F#32
  | 125 => 0x3D675210#32
  | 126 => 0x3F91D878#32
  | 127 => 0x3FCB0F7E#32
  | _ => 0#32

noncomputable abbrev lit0t0_50 (i : Nat) : BitVec 32 := match i % 128 with
  | 0 => 0x401FE038#32
  | 1 => 0x3F85D1E2#32
  | 2 => 0x3F857B7A#32
  | 3 => 0xBD89A985#32
  | 4 => 0xBBC325F2#32
  | 5 => 0x3F7F1CC5#32
  | 6 => 0x3EB8F5DB#32
  | 7 => 0x3E60B634#32
  | 8 => 0x3F71E01A#32
  | 9 => 0x3EB6F864#32
  | 10 => 0x4094D937#32
  | 11 => 0x3E647388#32
  | 12 => 0xBF292774#32
  | 13 => 0xBF916724#32
  | 14 => 0x3F653C1A#32
  | 15 => 0x3F6A9844#32
  | 16 => 0xBF456BCD#32
  | 17 => 0x3D871BE0#32
  | 18 => 0xBE1FD5CF#32
  | 19 => 0xBEB4C0F8#32
  | 20 => 0xBEE8C3E4#32
  | 21 => 0x3EC5F5BB#32
  | 22 => 0x3F627536#32
  | 23 => 0x3F1365C4#32
  | 24 => 0x405DDEF6#32
  | 25 => 0xBE8C5268#32
  | 26 => 0x3E352593#32
  | 27 => 0x3FCBAA21#32
  | 28 => 0x400001D9#32
  | 29 => 0xBF0D39EC#32
  | 30 => 0xBEDC5472#32
  | 31 => 0xBE950EF9#32
  | 32 => 0x3F1BBE37#32
  | 33 => 0x402EED55#32
  | 34 => 0x4056980E#32
  | 35 => 0x3F7F851E#32
  | 36 => 0x403D0DBA#32
  | 37 => 0xBF30C129#32
  | 38 => 0x3F9AE6EA#32
  | 39 => 0x3F344399#32
  | 40 => 0x3F566D70#32
  | 41 => 0x404A593A#32
  | 42 => 0xBE94996F#32
  | 43 => 0xBF169EE4#32
  | 44 => 0x3F1E61FD#32
  | 45 => 0x3ED123E0#32
  | 46 => 0x3FE02884#32
  | 47 => 0x3EA98AE7#32
  | 48 => 0xBF87684C#32
  | 49 => 0xBFE026FF#32
  | 50 => 0x3E1C931F#32
  | 51 => 0x4015E2A0#32
  | 52 => 0xBE971D4A#32
  | 53 => 0xBE2628FC#32
  | 54 => 0x3E8CCB60#32
  | 55 => 0xBF5C11E1#32
  | 56 => 0x3EE0BBA0#32
  | 57 => 0x3F5FAACA#32
  | 58 => 0x408916C7#32
  | 59 => 0xBE637635#32
  | 60 => 0x3F263782#32
  | 61 => 0x3F7EDCF6#32
  | 62 => 0x3E812698#32
  | 63 => 0x3FD46C46#32
  | 64 => 0x3F1B728F#32
  | 65 => 0x3EC85582#32
  | 66 => 0xBDD47954#32
  | 67 => 0xBFABC161#32
  | 68 => 0x3FE77815#32
  | 69 => 0xBFB01AE8#32
  | 70 => 0x3F8EA662#32
  | 71 => 0xBE0F0035#32
  | 72 => 0x3E1294D1#32
  | 73 => 0x3F00FC9C#32
  | 74 => 0x3F18889D#32
  | 75 => 0x4023870A#32
  | 76 => 0xBEAA1E17#32
  | 77 => 0x3F249898#32
  | 78 => 0x3F0B6973#32
  | 79 => 0x408CB488#32
  | 80 => 0x3F7B6986#32
  | 81 => 0x3DB49B1F#32
  | 82 => 0xBE4D39F4#32
  | 83 => 0xBF1E6412#32
  | 84 => 0xBF98644C#32
  | 85 => 0x3EBBD369#32
  | 86 => 0x3F88CB2C#32
  | 87 => 0x3D706AAE#32
  | 88 => 0xBEF4EDEA#32
  | 89 => 0x3FA89E13#32
  | 90 => 0xBC915779#32
  | 91 => 0xBF00039E#32
  | 92 => 0xBF573C77#32
  | 93 => 0xBFAD38BC#32
  | 94 => 0x3EF63556#32
  | 95 => 0xBFA5811C#32
  | 96 => 0x3F8E941B#32
  | 97 => 0xBE2C347A#32
  | 98 => 0x3FFA0253#32
  | 99 => 0x3F8FFCFF#32
  | 100 => 0x3F14D751#32
  | 101 => 0xBD016803#32
  | 102 => 0xBF034350#32
  | 103 => 0xBFC230AE#32
  | 104 => 0x3F49F8E6#32
  | 105 => 0x40141B83#32
  | 106 => 0x3D34622E#32
  | 107 => 0xBE316465#32
  | 108 => 0x3FC2A9A5#32
  | 109 => 0x3FAD95A3#32
  | 110 => 0xBF8B1815#32
  | 111 => 0xBF9EDE70#32
  | 112 => 0xBF857E28#32
  | 113 => 0x3F408F1A#32
  | 114 => 0x40059E0D#32
  | 115 => 0x3F1781E5#32
  | 116 => 0xBF2D9137#32
  | 117 => 0x40167C98#32
  | 118 => 0xBC2E0494#32
  | 119 => 0xBF3A0F35#32
  | 120 => 0x3E3212BD#32
  | 121 => 0xBF16DD8A#32
  | 122 => 0x3E02FD69#32
  | 123 => 0xBE57D773#32
  | 124 => 0xBE05EB5A#32
  | 125 => 0xBF050032#32
  | 126 => 0xBEDAC356#32
  | 127 => 0xBF96772C#32
  | _ => 0#32

noncomputable abbrev lit0t0_51 (i : Nat) : BitVec 32 := match i % 128 with
  | 0 => 0x3FB3F782#32
  | 1 => 0xBD4296A4#32
  | 2 => 0x3F8DC6F2#32
  | 3 => 0x3F8B2066#32
  | 4 => 0x3F8391F0#32
  | 5 => 0x40071B45#32
  | 6 => 0x3EA93B67#32
  | 7 => 0x3EAF1063#32
  | 8 => 0xBF87DD7B#32
  | 9 => 0x3FFEEAA0#32
  | 10 => 0x400C4583#32
  | 11 => 0x3E5262D8#32
  | 12 => 0x40421DAE#32
  | 13 => 0xBE9F4808#32
  | 14 => 0x3F8D77F6#32
  | 15 => 0xBE8342DA#32
  | 16 => 0xBF23C6C1#32
  | 17 => 0xBF1EC23A#32
  | 18 => 0x3F526A05#32
  | 19 => 0x3EC94489#32
  | 20 => 0x3F2A4983#32
  | 21 => 0xBE3935B8#32
  | 22 => 0x3FD0722D#32
  | 23 => 0xBF794722#32
  | 24 => 0x406FCE8A#32
  | 25 => 0xBF201309#32
  | 26 => 0x3EE518B1#32
  | 27 => 0x3FE2813E#32
  | 28 => 0x3F5A6E81#32
  | 29 => 0x3E2B0273#32
  | 30 => 0x3FCFE688#32
  | 31 => 0x3F436375#32
  | 32 => 0xBF58D7C3#32
  | 33 => 0xBE610918#32
  | 34 => 0x3FD87478#32
  | 35 => 0xBF56C442#32
  | 36 => 0x3F4C5667#32
  | 37 => 0x3E75AFCD#32
  | 38 => 0xBF4B402A#32
  | 39 => 0x3D35E1D7#32
  | 40 => 0xBF63D877#32
  | 41 => 0x3D87D90C#32
  | 42 => 0xBEF2C0F8#32
  | 43 => 0x3EDA6AAC#32
  | 44 => 0xBE1C6D0C#32
  | 45 => 0xBF463685#32
  | 46 => 0x3F5B083A#32
  | 47 => 0xBE98E88A#32
  | 48 => 0x3F9FDC71#32
  | 49 => 0x3FBF3D8D#32
  | 50 => 0xBCF5B894#32
  | 51 => 0x3FBF25F2#32
  | 52 => 0x3FE17108#32
  | 53 => 0x3F336333#32
  | 54 => 0x4037268A#32
  | 55 => 0x3F303985#32
  | 56 => 0xBF2E3E78#32
  | 57 => 0x3CF9F5A4#32
  | 58 => 0x3D441BC0#32
  | 59 => 0x3F814A64#32
  | 60 => 0x3E492736#32
  | 61 => 0xBF4A86D9#32
  | 62 => 0x3E6A9148#32
  | 63 => 0xBEDE530F#32
  | 64 => 0xBE155000#32
  | 65 => 0xBF51DCCD#32
  | 66 => 0x402D73E3#32
  | 67 => 0x3FA6B68C#32
  | 68 => 0xBE10BB5D#32
  | 69 => 0x3D492ACE#32
  | 70 => 0x3C0ECF5F#32
  | 71 => 0x3FB0AFF2#32
  | 72 => 0x3FB5DE73#32
  | 73 => 0x3EECBFF0#32
  | 74 => 0xBB9A5FC3#32
  | 75 => 0xBF894308#32
  | 76 => 0x3E3F7DE2#32
  | 77 => 0x3F8A294D#32
  | 78 => 0x3F35D8C7#32
  | 79 => 0x3FC5687D#32
  | 80 => 0x3F372B5F#32
  | 81 => 0x3EE2160A#32
  | 82 => 0x3F501E46#32
  | 83 => 0x4036781F#32
  | 84 => 0x3FA39B80#32
  | 85 => 0x3FED5EAB#32
  | 86 => 0xBE34D4BF#32
  | 87 => 0x40329F22#32
  | 88 => 0x3F86E974#32
  | 89 => 0x4024B968#32
  | 90 => 0xBEF2DAD1#32
  | 91 => 0xBF6CCF8D#32
  | 92 => 0x409DC265#32
  | 93 => 0xBF4A6048#32
  | 94 => 0x3F1D5595#32
  | 95 => 0x3F8982AF#32
  | 96 => 0x3D977E8F#32
  | 97 => 0x3E15453F#32
  | 98 => 0x3F02704D#32
  | 99 => 0x400BB371#32
  | 100 => 0xBF4CE68C#32
  | 101 => 0x3FD1C6BD#32
  | 102 => 0x3F2A9470#32
  | 103 => 0xBEDB0944#32
  | 104 => 0xBEAFFDBF#32
  | 105 => 0xBF242EE9#32
  | 106 => 0xBFB1004E#32
  | 107 => 0x3E6A9814#32
  | 108 => 0x3F164090#32
  | 109 => 0x3F3E84F9#32
  | 110 => 0x3F90243B#32
  | 111 => 0xBF3CED35#32
  | 112 => 0x3F6323CE#32
  | 113 => 0x40A7FC46#32
  | 114 => 0xBFCF1E45#32
  | 115 => 0x3F18D56E#32
  | 116 => 0xBE20EEF4#32
  | 117 => 0x3FAC113D#32
  | 118 => 0x3DB0CBBF#32
  | 119 => 0x3D5D9920#32
  | 120 => 0x3FFCB592#32
  | 121 => 0xBEFAE6F5#32
  | 122 => 0xBD84796F#32
  | 123 => 0xBE2F82F6#32
  | 124 => 0xBF9FB371#32
  | 125 => 0x3F16397C#32
  | 126 => 0x3F50F1B1#32
  | 127 => 0x40847F3B#32
  | _ => 0#32

noncomputable abbrev lit0t0_52 (i : Nat) : BitVec 32 := match i % 128 with
  | 0 => 0x3EFA8328#32
  | 1 => 0x3FB2E6AD#32
  | 2 => 0x3F7A1180#32
  | 3 => 0xBF55B052#32
  | 4 => 0xBF8354B4#32
  | 5 => 0x400DB4FD#32
  | 6 => 0xBF112F81#32
  | 7 => 0xBEF3F3A4#32
  | 8 => 0x402060FC#32
  | 9 => 0xBF759128#32
  | 10 => 0xBF88BE29#32
  | 11 => 0xBF29EF77#32
  | 12 => 0x3FB2DAEB#32
  | 13 => 0x3F81828E#32
  | 14 => 0x3ED86BA3#32
  | 15 => 0xBF8407E0#32
  | 16 => 0x3F517B4E#32
  | 17 => 0xBDD49A49#32
  | 18 => 0x3E729878#32
  | 19 => 0x3E8AE9B8#32
  | 20 => 0x3F9348AA#32
  | 21 => 0x3E28252A#32
  | 22 => 0xBDABE6E5#32
  | 23 => 0x3F72BF63#32
  | 24 => 0xBDCF322B#32
  | 25 => 0x3EEBF619#32
  | 26 => 0x4002713A#32
  | 27 => 0x3EBED77E#32
  | 28 => 0x3F9DE642#32
  | 29 => 0xBF1EE5DD#32
  | 30 => 0x3F324277#32
  | 31 => 0x3ECD80BC#32
  | 32 => 0xBF53ADAF#32
  | 33 => 0xBD35713A#32
  | 34 => 0xBEB4706B#32
  | 35 => 0xBECD76D9#32
  | 36 => 0x3F89368E#32
  | 37 => 0x3E97E9F9#32
  | 38 => 0xBF33AE3D#32
  | 39 => 0x3EB308F0#32
  | 40 => 0x3F8783FC#32
  | 41 => 0x3CC4A191#32
  | 42 => 0x3EF87A3C#32
  | 43 => 0xBE055C4B#32
  | 44 => 0x40A5654E#32
  | 45 => 0x3F714170#32
  | 46 => 0xBF8ABAC2#32
  | 47 => 0x40275ACA#32
  | 48 => 0x3F1AC791#32
  | 49 => 0x3F5118E8#32
  | 50 => 0x400916B4#32
  | 51 => 0xBF519D6B#32
  | 52 => 0xBF0D5AE6#32
  | 53 => 0xBDE1664C#32
  | 54 => 0x3F650CA9#32
  | 55 => 0x3EDE930B#32
  | 56 => 0x401F661E#32
  | 57 => 0x3F660ABE#32
  | 58 => 0x409CD465#32
  | 59 => 0x4048060C#32
  | 60 => 0xBE8511EA#32
  | 61 => 0x3F1503B9#32
  | 62 => 0x3F789BCE#32
  | 63 => 0x3F563AA9#32
  | 64 => 0xBF7844B0#32
  | 65 => 0xBEEE3A32#32
  | 66 => 0xBEB41A6A#32
  | 67 => 0x3FAAA2C8#32
  | 68 => 0x3F511D08#32
  | 69 => 0x4088B4E5#32
  | 70 => 0xBF65D6BB#32
  | 71 => 0xBFC582E2#32
  | 72 => 0x3F534900#32
  | 73 => 0xBDE9D209#32
  | 74 => 0xBF52AF22#32
  | 75 => 0x3E4FCAD6#32
  | 76 => 0x3E7EA3F6#32
  | 77 => 0x3FB8A388#32
  | 78 => 0x3F563360#32
  | 79 => 0x3F85E6A0#32
  | 80 => 0xBE5883A2#32
  | 81 => 0xBD3762D0#32
  | 82 => 0x3F65CD27#32
  | 83 => 0x3F14C622#32
  | 84 => 0x3FE58A7C#32
  | 85 => 0xBEE08141#32
  | 86 => 0x3EA61760#32
  | 87 => 0xBEB88C7C#32
  | 88 => 0xBD8116E4#32
  | 89 => 0x40444EF0#32
  | 90 => 0x3FC99F51#32
  | 91 => 0x3FACC496#32
  | 92 => 0x3F2E2864#32
  | 93 => 0x3F18A7C7#32
  | 94 => 0xBB532AD0#32
  | 95 => 0x3F0D8CD4#32
  | 96 => 0xBF19B439#32
  | 97 => 0x3F2E17C1#32
  | 98 => 0xBDD65FB8#32
  | 99 => 0xBE77EF34#32
  | 100 => 0x3F8EF123#32
  | 101 => 0x3E3B92AF#32
  | 102 => 0x3F9CB54E#32
  | 103 => 0xBEFCAA08#32
  | 104 => 0x3FB29C26#32
  | 105 => 0xBE508540#32
  | 106 => 0xBD80310A#32
  | 107 => 0xBC1CB703#32
  | 108 => 0x40637843#32
  | 109 => 0xBF559FB0#32
  | 110 => 0x3E6AB168#32
  | 111 => 0x3F2BE605#32
  | 112 => 0x3E828292#32
  | 113 => 0x4012A0D6#32
  | 114 => 0x3FA06196#32
  | 115 => 0xBF0E227B#32
  | 116 => 0xBF47DC85#32
  | 117 => 0x3F15F357#32
  | 118 => 0x402204F2#32
  | 119 => 0xBE8F9D6E#32
  | 120 => 0x3FB6A714#32
  | 121 => 0x3FE01B7A#32
  | 122 => 0x3EAE45A8#32
  | 123 => 0x3E50FF40#32
  | 124 => 0xBE8B2416#32
  | 125 => 0xBF044241#32
  | 126 => 0x3FAA7198#32
  | 127 => 0xBF0021B0#32
  | _ => 0#32

noncomputable abbrev lit0t0_53 (i : Nat) : BitVec 32 := match i % 128 with
  | 0 => 0x3EC837BF#32
  | 1 => 0x40022CBF#32
  | 2 => 0xBCB275FD#32
  | 3 => 0x3EAFB310#32
  | 4 => 0x4021E87E#32
  | 5 => 0x3FF045FD#32
  | 6 => 0x3F557754#32
  | 7 => 0x3F654D6D#32
  | 8 => 0xBFAC4C7E#32
  | 9 => 0x3F985CDE#32
  | 10 => 0x408A9E21#32
  | 11 => 0x3FF3F782#32
  | 12 => 0x4048852E#32
  | 13 => 0xBFC15BCE#32
  | 14 => 0xBEB72F86#32
  | 15 => 0xBE9BCE04#32
  | 16 => 0x3EF7B364#32
  | 17 => 0x3F57EEFC#32
  | 18 => 0x3F444EAB#32
  | 19 => 0xBEADE0A0#32
  | 20 => 0x3F624E0C#32
  | 21 => 0x3F37D97B#32
  | 22 => 0xBFDA9D90#32
  | 23 => 0x3E5B49D7#32
  | 24 => 0x3F9EBF15#32
  | 25 => 0xBF17C71E#32
  | 26 => 0xBF85BC44#32
  | 27 => 0x3EB5DFE5#32
  | 28 => 0x3F8B77ED#32
  | 29 => 0x3F5F4CDE#32
  | 30 => 0x3F895584#32
  | 31 => 0x3D00CA85#32
  | 32 => 0xBEF9F5BA#32
  | 33 => 0xBF7CBDF3#32
  | 34 => 0x3EB5AB31#32
  | 35 => 0x3EC86B96#32
  | 36 => 0x3F017418#32
  | 37 => 0xBEAADA1A#32
  | 38 => 0x3DA2102B#32
  | 39 => 0x3EA8CB22#32
  | 40 => 0xBE59E735#32
  | 41 => 0xBE8CD941#32
  | 42 => 0xBF281B2E#32
  | 43 => 0x3F626610#32
  | 44 => 0xBE77DD0C#32
  | 45 => 0xBCBF2892#32
  | 46 => 0x3D1A6993#32
  | 47 => 0xBEEA1A98#32
  | 48 => 0xBE345A38#32
  | 49 => 0x3F262382#32
  | 50 => 0x40AD9882#32
  | 51 => 0xBEBE6A03#32
  | 52 => 0x4079B459#32
  | 53 => 0xBF05CF2B#32
  | 54 => 0x40306BD8#32
  | 55 => 0x3C8825C7#32
  | 56 => 0x3DDBA7AB#32
  | 57 => 0xBF071584#32
  | 58 => 0xBF5E68A4#32
  | 59 => 0x3F5E1036#32
  | 60 => 0x400E0D0C#32
  | 61 => 0x3E30EA71#32
  | 62 => 0x3F3FBC15#32
  | 63 => 0xBF24DDB1#32
  | 64 => 0xBD5CB160#32
  | 65 => 0x3C2F6907#32
  | 66 => 0xBE3697A9#32
  | 67 => 0xBF6D469B#32
  | 68 => 0xBCBAF472#32
  | 69 => 0xBF41C763#32
  | 70 => 0xBE1AA661#32
  | 71 => 0xBEE065CD#32
  | 72 => 0xBD077C3D#32
  | 73 => 0x3FA19755#32
  | 74 => 0x3FCB999A#32
  | 75 => 0x3F44DEB0#32
  | 76 => 0x3EB2E939#32
  | 77 => 0x3DB1CDE8#32
  | 78 => 0xBE18D1E4#32
  | 79 => 0xBF0BC287#32
  | 80 => 0x3DE2EFD2#32
  | 81 => 0x3F68B84C#32
  | 82 => 0x3FB58D1B#32
  | 83 => 0xBF46DF00#32
  | 84 => 0xBFB5CF9F#32
  | 85 => 0xBF54284B#32
  | 86 => 0xBF75DEAE#32
  | 87 => 0x40808E86#32
  | 88 => 0x3EE178DE#32
  | 89 => 0x3E99F660#32
  | 90 => 0x4054E0DE#32
  | 91 => 0x3FB8BA2C#32
  | 92 => 0x3EBBAA77#32
  | 93 => 0xBD765057#32
  | 94 => 0xBF197954#32
  | 95 => 0xBF20A2EC#32
  | 96 => 0x3FA603F7#32
  | 97 => 0x3E5A7621#32
  | 98 => 0x3CB2B3DF#32
  | 99 => 0x3F0CD318#32
  | 100 => 0x3F31147D#32
  | 101 => 0x405B2B39#32
  | 102 => 0xBE34C16A#32
  | 103 => 0x3DB8055D#32
  | 104 => 0x3FAC4BB6#32
  | 105 => 0x3F9C0FAB#32
  | 106 => 0xBF0C2A59#32
  | 107 => 0x40C0E2DB#32
  | 108 => 0xBE364AC7#32
  | 109 => 0xBF1AFF72#32
  | 110 => 0xBF254D79#32
  | 111 => 0x3FB8C5E7#32
  | 112 => 0xBEE8E4BB#32
  | 113 => 0xBF36ACBE#32
  | 114 => 0x3C98FCF1#32
  | 115 => 0x3C51DFA7#32
  | 116 => 0xBFA1E3D1#32
  | 117 => 0x3D47D591#32
  | 118 => 0x3F7F6F4E#32
  | 119 => 0xBE15E9C0#32
  | 120 => 0xBF394E2F#32
  | 121 => 0x3F9CBCF5#32
  | 122 => 0x3DC65933#32
  | 123 => 0xBE04C5E2#32
  | 124 => 0x3FC170DE#32
  | 125 => 0x3EFB6D82#32
  | 126 => 0x3E8937BC#32
  | 127 => 0x3F14D6D4#32
  | _ => 0#32

noncomputable abbrev lit0t0_54 (i : Nat) : BitVec 32 := match i % 128 with
  | 0 => 0x3F24AE1E#32
  | 1 => 0x3F4C2F82#32
  | 2 => 0x3F3863E9#32
  | 3 => 0x3F18197F#32
  | 4 => 0xBF7A7774#32
  | 5 => 0xBE3CEA2E#32
  | 6 => 0x3EC173C9#32
  | 7 => 0x3ED5944E#32
  | 8 => 0x3FA63EF2#32
  | 9 => 0x3EC28B35#32
  | 10 => 0x3FB519E9#32
  | 11 => 0x405F66E0#32
  | 12 => 0xBE8807BC#32
  | 13 => 0x3FB4C1DA#32
  | 14 => 0x3F31C73D#32
  | 15 => 0xBF81EB34#32
  | 16 => 0x3FC63874#32
  | 17 => 0x3F4456AC#32
  | 18 => 0x3E8EC148#32
  | 19 => 0xBDD94F15#32
  | 20 => 0x3FE36182#32
  | 21 => 0xBE823933#32
  | 22 => 0xBEC83870#32
  | 23 => 0x3F5FBE7A#32
  | 24 => 0x3F869835#32
  | 25 => 0xBDE7B2CC#32
  | 26 => 0xBF99B7D2#32
  | 27 => 0x3FCB1B94#32
  | 28 => 0x3EB5FE5A#32
  | 29 => 0x3FE9A229#32
  | 30 => 0x3F654AAA#32
  | 31 => 0xBF6F55BF#32
  | 32 => 0x3FD4D1B0#32
  | 33 => 0x3F3D413D#32
  | 34 => 0x3E698A46#32
  | 35 => 0x4061E412#32
  | 36 => 0x3F0FC518#32
  | 37 => 0x3EABC1A8#32
  | 38 => 0xBE91F45D#32
  | 39 => 0x3F8DAB9E#32
  | 40 => 0x40527C30#32
  | 41 => 0x406E6F5F#32
  | 42 => 0x3E1F96B7#32
  | 43 => 0x3F294A79#32
  | 44 => 0x3F0B229F#32
  | 45 => 0x402BFA86#32
  | 46 => 0x3E09AD63#32
  | 47 => 0x3FAC3414#32
  | 48 => 0xBE90EC13#32
  | 49 => 0x4082F6DA#32
  | 50 => 0xBF1504E1#32
  | 51 => 0xBF6C7038#32
  | 52 => 0x3FBAEDEF#32
  | 53 => 0x3F7B7DE2#32
  | 54 => 0x3FAF016E#32
  | 55 => 0xBF7A8FE7#32
  | 56 => 0x4014329B#32
  | 57 => 0x3EF0D34A#32
  | 58 => 0xBE474B70#32
  | 59 => 0xBE1F0033#32
  | 60 => 0x3FEB9EBE#32
  | 61 => 0x3F076BDE#32
  | 62 => 0x3E0EDEDC#32
  | 63 => 0x40693272#32
  | 64 => 0x3F1FFE68#32
  | 65 => 0x3F086154#32
  | 66 => 0xBF71FB84#32
  | 67 => 0x3F1ECF90#32
  | 68 => 0x3FBD1B49#32
  | 69 => 0x3E3E8E5F#32
  | 70 => 0x3FF2E0E1#32
  | 71 => 0xBF87621C#32
  | 72 => 0x3FCE2C1C#32
  | 73 => 0x4028C9E3#32
  | 74 => 0xBEE52492#32
  | 75 => 0x400FFC70#32
  | 76 => 0xBF2FE0DD#32
  | 77 => 0x3DA89D11#32
  | 78 => 0x3E6A0ABB#32
  | 79 => 0x3FE373B1#32
  | 80 => 0xBD92F3EF#32
  | 81 => 0x40047FE0#32
  | 82 => 0x3E9B57AB#32
  | 83 => 0x4018CA66#32
  | 84 => 0x3E8FF9FF#32
  | 85 => 0xBFA7DF72#32
  | 86 => 0x3F804EC2#32
  | 87 => 0xBDF4DA4B#32
  | 88 => 0xBF10E1DA#32
  | 89 => 0xBD47A7D1#32
  | 90 => 0x3E969105#32
  | 91 => 0xBF1CCA32#32
  | 92 => 0xBED004AF#32
  | 93 => 0x4043468A#32
  | 94 => 0x40669CD8#32
  | 95 => 0xBEA2224C#32
  | 96 => 0x3F9BC774#32
  | 97 => 0x3E5D7C66#32
  | 98 => 0xBF73885D#32
  | 99 => 0xBEC16024#32
  | 100 => 0xBF92BDBA#32
  | 101 => 0x406B2F9D#32
  | 102 => 0xBF42CD0F#32
  | 103 => 0x3F158B86#32
  | 104 => 0xBEA375D6#32
  | 105 => 0xBF2CFE46#32
  | 106 => 0x3F2A9C51#32
  | 107 => 0x3F91A34F#32
  | 108 => 0x3FB27F55#32
  | 109 => 0xBF62AE92#32
  | 110 => 0x3EE4DA35#32
  | 111 => 0x3EFAD1D8#32
  | 112 => 0x40346B4C#32
  | 113 => 0x3F8F2269#32
  | 114 => 0x3F94C5CF#32
  | 115 => 0x3FE351FB#32
  | 116 => 0xBEAD4867#32
  | 117 => 0x3EFC3B9A#32
  | 118 => 0x3F977B76#32
  | 119 => 0x3FB10EC4#32
  | 120 => 0x3FB29F2F#32
  | 121 => 0x3FBF185D#32
  | 122 => 0xBFFFC03A#32
  | 123 => 0x3F48609F#32
  | 124 => 0x3F12DB22#32
  | 125 => 0x3D97BC8C#32
  | 126 => 0x3F583823#32
  | 127 => 0x3FCEF1D5#32
  | _ => 0#32

noncomputable abbrev lit0t0_55 (i : Nat) : BitVec 32 := match i % 128 with
  | 0 => 0x3EB6C581#32
  | 1 => 0x3FB375BA#32
  | 2 => 0xBFB2CC2E#32
  | 3 => 0x3EDC0E61#32
  | 4 => 0x3FD7727B#32
  | 5 => 0x3F7F01E4#32
  | 6 => 0xBD8F496A#32
  | 7 => 0xBFBDB3D2#32
  | 8 => 0x3F7A6D7C#32
  | 9 => 0xBDD9A197#32
  | 10 => 0xBEC29E98#32
  | 11 => 0x3F64690C#32
  | 12 => 0x3FA4E573#32
  | 13 => 0x3FC9C64A#32
  | 14 => 0xBF2B47B7#32
  | 15 => 0x3FFBDF66#32
  | 16 => 0x3F1E08CF#32
  | 17 => 0x40046540#32
  | 18 => 0x3FC7107B#32
  | 19 => 0xBEA210EC#32
  | 20 => 0x3E909D15#32
  | 21 => 0x3FFB7120#32
  | 22 => 0xBF8033D4#32
  | 23 => 0x3E0DFE50#32
  | 24 => 0x3FE89F37#32
  | 25 => 0x402A6982#32
  | 26 => 0xBF5DE3CC#32
  | 27 => 0xBE248DA9#32
  | 28 => 0xBF18B5AC#32
  | 29 => 0x3F79A1B7#32
  | 30 => 0x3FB2D864#32
  | 31 => 0xBF12025D#32
  | 32 => 0x3EAC3A62#32
  | 33 => 0x3FFD0A27#32
  | 34 => 0x3F9A586A#32
  | 35 => 0xBE1BCBBD#32
  | 36 => 0x3F0CFBE7#32
  | 37 => 0xBF3AE9AB#32
  | 38 => 0xBD391982#32
  | 39 => 0xBEBA306C#32
  | 40 => 0x3FF7451B#32
  | 41 => 0xBC3D2960#32
  | 42 => 0xBFADADE0#32
  | 43 => 0x3FE17C4A#32
  | 44 => 0x3FB23623#32
  | 45 => 0xBFAA2C47#32
  | 46 => 0x4032CFD6#32
  | 47 => 0xBD93F0BF#32
  | 48 => 0x3F47A4D0#32
  | 49 => 0x3E288E66#32
  | 50 => 0xBF3E0808#32
  | 51 => 0x3F89823B#32
  | 52 => 0x3FA18AB1#32
  | 53 => 0x402C987A#32
  | 54 => 0x3EFFB7CF#32
  | 55 => 0x3FB9AE51#32
  | 56 => 0x3FD36142#32
  | 57 => 0x3FC0859A#32
  | 58 => 0x3F3B3FBE#32
  | 59 => 0x40139932#32
  | 60 => 0x3F2BD854#32
  | 61 => 0xBF8A5EDD#32
  | 62 => 0xBDECFF1F#32
  | 63 => 0xBF21BDC6#32
  | 64 => 0xBF01A0D1#32
  | 65 => 0x3F225E8F#32
  | 66 => 0x3F372706#32
  | 67 => 0x3FBB0E03#32
  | 68 => 0x40103EFE#32
  | 69 => 0x3E2A6077#32
  | 70 => 0xBEC463B3#32
  | 71 => 0x3F870F3B#32
  | 72 => 0x3F9448FC#32
  | 73 => 0xBF331A2A#32
  | 74 => 0xBF1C7C1A#32
  | 75 => 0x3F45AA26#32
  | 76 => 0xBED608C6#32
  | 77 => 0x3EE911B0#32
  | 78 => 0x3D9D9F47#32
  | 79 => 0xBE291495#32
  | 80 => 0xBF235E42#32
  | 81 => 0x40369720#32
  | 82 => 0xBE122AA0#32
  | 83 => 0xBF3FB902#32
  | 84 => 0x3F0C6245#32
  | 85 => 0xBF0D2B79#32
  | 86 => 0x400CD833#32
  | 87 => 0xBE8632DA#32
  | 88 => 0x407429A6#32
  | 89 => 0x3F1CF222#32
  | 90 => 0x403A7B79#32
  | 91 => 0xBF176642#32
  | 92 => 0x3F4E3B0E#32
  | 93 => 0xBE9E832F#32
  | 94 => 0x40494F49#32
  | 95 => 0xBD373A4B#32
  | 96 => 0xBEF0BACC#32
  | 97 => 0x3F2F6FDA#32
  | 98 => 0x3F3EF0C8#32
  | 99 => 0xBE6CFF97#32
  | 100 => 0x4096DA5E#32
  | 101 => 0xBF08E977#32
  | 102 => 0x405A8AD3#32
  | 103 => 0xBF6373B2#32
  | 104 => 0x3F358004#32
  | 105 => 0xBD9BBD2B#32
  | 106 => 0xBFABE37C#32
  | 107 => 0x3E9790C5#32
  | 108 => 0x3ECF264A#32
  | 109 => 0x3FB5C38B#32
  | 110 => 0xBED41297#32
  | 111 => 0xBF832754#32
  | 112 => 0xBF7A465B#32
  | 113 => 0xBF2F101C#32
  | 114 => 0x3F85AF6B#32
  | 115 => 0x3EB69B6C#32
  | 116 => 0xBF556DAC#32
  | 117 => 0x3F17FBA9#32
  | 118 => 0x401A67F6#32
  | 119 => 0x3FCCD08E#32
  | 120 => 0x3F350207#32
  | 121 => 0xBDF0DB00#32
  | 122 => 0x3FC27464#32
  | 123 => 0xBEF390DA#32
  | 124 => 0x3EA306FE#32
  | 125 => 0x3FB9E761#32
  | 126 => 0xBF0AECD8#32
  | 127 => 0x3F235213#32
  | _ => 0#32

noncomputable abbrev lit0t0_56 (i : Nat) : BitVec 32 := match i % 128 with
  | 0 => 0x40375408#32
  | 1 => 0x40119570#32
  | 2 => 0xBF619CE6#32
  | 3 => 0x3F247C5E#32
  | 4 => 0xBEF70FCD#32
  | 5 => 0x3F4775FB#32
  | 6 => 0x3D5D1DF5#32
  | 7 => 0x402D48BB#32
  | 8 => 0xBF68823F#32
  | 9 => 0x3FDCED46#32
  | 10 => 0x3F721760#32
  | 11 => 0x3FC2046A#32
  | 12 => 0x3EF3FF43#32
  | 13 => 0xBF987C8E#32
  | 14 => 0x3F82DACB#32
  | 15 => 0xBD8FE41D#32
  | 16 => 0xBF8306D3#32
  | 17 => 0xBF949EB9#32
  | 18 => 0x3F79136C#32
  | 19 => 0x40742508#32
  | 20 => 0xBD36635A#32
  | 21 => 0x402FB5BE#32
  | 22 => 0x3F377299#32
  | 23 => 0x3F12EB16#32
  | 24 => 0x3EEB2ADF#32
  | 25 => 0x3FFAE9D0#32
  | 26 => 0x3FEC9748#32
  | 27 => 0x3F193564#32
  | 28 => 0x3F20E839#32
  | 29 => 0xBF767801#32
  | 30 => 0x3D7806AF#32
  | 31 => 0x3EE97D4A#32
  | 32 => 0x3D774E80#32
  | 33 => 0xBF5BAEFB#32
  | 34 => 0xBDEB188F#32
  | 35 => 0xBCAC1490#32
  | 36 => 0x40281F04#32
  | 37 => 0x3F9CD73F#32
  | 38 => 0xBDBA9E27#32
  | 39 => 0xBFD2EE00#32
  | 40 => 0x3C73D01E#32
  | 41 => 0x3E904FBD#32
  | 42 => 0xBF45A8D9#32
  | 43 => 0xBF1D5D18#32
  | 44 => 0x3E5C15F9#32
  | 45 => 0xBE063982#32
  | 46 => 0x3DE1873D#32
  | 47 => 0x40A330B9#32
  | 48 => 0x40052A84#32
  | 49 => 0x3EE3806A#32
  | 50 => 0x3EA7D08D#32
  | 51 => 0x3F9073BF#32
  | 52 => 0x3EEC94C3#32
  | 53 => 0x3E03A434#32
  | 54 => 0x3FB69BD8#32
  | 55 => 0x3F34ED26#32
  | 56 => 0xBF949E8B#32
  | 57 => 0xBECDF463#32
  | 58 => 0x3F2F4178#32
  | 59 => 0x3F417925#32
  | 60 => 0x4082CC14#32
  | 61 => 0xBF381A0A#32
  | 62 => 0x3FD704B2#32
  | 63 => 0xBDD71EF3#32
  | 64 => 0x3F706338#32
  | 65 => 0xBEED6D01#32
  | 66 => 0x3EDBD060#32
  | 67 => 0xBCAEBEF6#32
  | 68 => 0x3DAE88B6#32
  | 69 => 0x3F72F34C#32
  | 70 => 0xBF8242F2#32
  | 71 => 0x3D062795#32
  | 72 => 0x40039657#32
  | 73 => 0xBD90614C#32
  | 74 => 0xBEBFA976#32
  | 75 => 0xBF081036#32
  | 76 => 0xBD35D3E1#32
  | 77 => 0xBE515C7F#32
  | 78 => 0xBF219198#32
  | 79 => 0x3ED4E7CA#32
  | 80 => 0x4019685E#32
  | 81 => 0xBE19A52A#32
  | 82 => 0xBF003EBA#32
  | 83 => 0x3F41C6C9#32
  | 84 => 0xBE0E0AF5#32
  | 85 => 0x3F9E8FC6#32
  | 86 => 0x3FE745F2#32
  | 87 => 0xBF30A54C#32
  | 88 => 0xC0063E8A#32
  | 89 => 0x3F512452#32
  | 90 => 0x40472C9F#32
  | 91 => 0x3ECC0042#32
  | 92 => 0x3EA0CC11#32
  | 93 => 0x3E940D90#32
  | 94 => 0x40430BF0#32
  | 95 => 0xBFAEADF0#32
  | 96 => 0x3E28BA89#32
  | 97 => 0x3D6D856B#32
  | 98 => 0x3F7AB454#32
  | 99 => 0xBED972FA#32
  | 100 => 0x40A22DE6#32
  | 101 => 0x3F806D67#32
  | 102 => 0x3EF4128D#32
  | 103 => 0x3FCA2E06#32
  | 104 => 0x3E8321D8#32
  | 105 => 0x3CAE3E09#32
  | 106 => 0x4073491A#32
  | 107 => 0x3F195D06#32
  | 108 => 0x3EA59CAA#32
  | 109 => 0xBF324E21#32
  | 110 => 0xBF8835A2#32
  | 111 => 0xBFA214C9#32
  | 112 => 0xBF786A6D#32
  | 113 => 0x3FB1A0C1#32
  | 114 => 0x3D6F84EB#32
  | 115 => 0x3F86E342#32
  | 116 => 0xBE2EC8AE#32
  | 117 => 0x3F46A8E9#32
  | 118 => 0xBF1115FB#32
  | 119 => 0xBF381A65#32
  | 120 => 0xBF4C61D9#32
  | 121 => 0x3F9BA174#32
  | 122 => 0xBE2ABF0D#32
  | 123 => 0xBF0696F8#32
  | 124 => 0x3F714DAA#32
  | 125 => 0x3E988599#32
  | 126 => 0xBE6B7926#32
  | 127 => 0x40332DD3#32
  | _ => 0#32

noncomputable abbrev lit0t0_57 (i : Nat) : BitVec 32 := match i % 128 with
  | 0 => 0x3EB689DC#32
  | 1 => 0x3FDC7D63#32
  | 2 => 0x3FB9354D#32
  | 3 => 0x3E91A564#32
  | 4 => 0x3FBC6CDE#32
  | 5 => 0x40344414#32
  | 6 => 0xBF73E184#32
  | 7 => 0xBF53A044#32
  | 8 => 0xBF6F14DB#32
  | 9 => 0xBFBA6E22#32
  | 10 => 0xBF7F8D22#32
  | 11 => 0x3FD1CA09#32
  | 12 => 0x3FDC68BC#32
  | 13 => 0x3EB7DA82#32
  | 14 => 0xBF59717F#32
  | 15 => 0x3F2F8948#32
  | 16 => 0xBE3A4095#32
  | 17 => 0x4002A6BE#32
  | 18 => 0x3F0197F7#32
  | 19 => 0x3EEF6DCC#32
  | 20 => 0x3F86E80D#32
  | 21 => 0xBF41C581#32
  | 22 => 0xBD255322#32
  | 23 => 0x3DE0262E#32
  | 24 => 0x3ED4E6B3#32
  | 25 => 0x3EEA1934#32
  | 26 => 0xBF3A2A05#32
  | 27 => 0xBDA4BEE4#32
  | 28 => 0xBF8DABCB#32
  | 29 => 0x3F3D5E78#32
  | 30 => 0xBF928781#32
  | 31 => 0xBFA06144#32
  | 32 => 0xBF92E58B#32
  | 33 => 0x404C1DDC#32
  | 34 => 0x3F45A816#32
  | 35 => 0x3D35C396#32
  | 36 => 0x401599A3#32
  | 37 => 0xBEEBE56E#32
  | 38 => 0xBC9F1CDA#32
  | 39 => 0x3F78947B#32
  | 40 => 0x3E6D67EC#32
  | 41 => 0xBE8A8D6D#32
  | 42 => 0x3FC3E914#32
  | 43 => 0x3FDF0520#32
  | 44 => 0xBF3ADF98#32
  | 45 => 0x3F2A8C0D#32
  | 46 => 0xBF4D160A#32
  | 47 => 0x3F51A372#32
  | 48 => 0x3FE3C9D3#32
  | 49 => 0xBF3D62FE#32
  | 50 => 0xBDEA6CAF#32
  | 51 => 0xBF252FF5#32
  | 52 => 0x3F9B3409#32
  | 53 => 0xBF8FA139#32
  | 54 => 0xBE52742E#32
  | 55 => 0x3D9B39ED#32
  | 56 => 0x40825672#32
  | 57 => 0xBDAF48CC#32
  | 58 => 0xBEB52A37#32
  | 59 => 0x3EF9D7E4#32
  | 60 => 0xBEA98204#32
  | 61 => 0x3E9F1081#32
  | 62 => 0x3FB831E2#32
  | 63 => 0x3ED53AA1#32
  | 64 => 0x3FA176C0#32
  | 65 => 0x3E9FFF0C#32
  | 66 => 0xBF7280CA#32
  | 67 => 0x3EB5BA49#32
  | 68 => 0x3F8EE17E#32
  | 69 => 0x40A1ACB5#32
  | 70 => 0xBEF91F01#32
  | 71 => 0x3F8AEC12#32
  | 72 => 0x3F24E0D0#32
  | 73 => 0x4041D424#32
  | 74 => 0xBF6AB199#32
  | 75 => 0xBFCE7713#32
  | 76 => 0xBE44E878#32
  | 77 => 0xBF85AF65#32
  | 78 => 0x401D2241#32
  | 79 => 0xBF95500D#32
  | 80 => 0x3FCAD12B#32
  | 81 => 0x3E6C6240#32
  | 82 => 0x3FCA2391#32
  | 83 => 0xBFE1398C#32
  | 84 => 0x3F7DF121#32
  | 85 => 0x3FFF1EF3#32
  | 86 => 0x3FE5DE70#32
  | 87 => 0xBEC5C5B9#32
  | 88 => 0x3E8C68D2#32
  | 89 => 0x40322B9A#32
  | 90 => 0x40165B21#32
  | 91 => 0xBD3D86F8#32
  | 92 => 0x407CA1BE#32
  | 93 => 0x3E05D455#32
  | 94 => 0xBFB6B2EF#32
  | 95 => 0x3E6F3877#32
  | 96 => 0x3E91299C#32
  | 97 => 0x401C4C01#32
  | 98 => 0x3F0DB374#32
  | 99 => 0xBF0E7CFE#32
  | 100 => 0x3F82DAE2#32
  | 101 => 0x3F4774D9#32
  | 102 => 0x400B89ED#32
  | 103 => 0x3F1604A7#32
  | 104 => 0x3EDD09ED#32
  | 105 => 0x4084F6BB#32
  | 106 => 0x3EB1E107#32
  | 107 => 0x3EB01075#32
  | 108 => 0xBFB7035D#32
  | 109 => 0xBF46BA5F#32
  | 110 => 0x3F8F585D#32
  | 111 => 0xBF8F370D#32
  | 112 => 0xBF1F072B#32
  | 113 => 0xBEF03C19#32
  | 114 => 0x40AD9E86#32
  | 115 => 0xBF64B82B#32
  | 116 => 0x3FC81DC9#32
  | 117 => 0xBE0B49EF#32
  | 118 => 0x3FC0E404#32
  | 119 => 0x3F9A489C#32
  | 120 => 0x405678DB#32
  | 121 => 0x3DB691DF#32
  | 122 => 0xBE1BF3CE#32
  | 123 => 0xBEED18BD#32
  | 124 => 0xBEC38498#32
  | 125 => 0x3E75881F#32
  | 126 => 0xBF1EE055#32
  | 127 => 0xBECA4DF7#32
  | _ => 0#32

noncomputable abbrev lit0t0_58 (i : Nat) : BitVec 32 := match i % 128 with
  | 0 => 0x3F7BDE04#32
  | 1 => 0x402A886D#32
  | 2 => 0xBE6CEB4F#32
  | 3 => 0x3FBB393C#32
  | 4 => 0xBF3622D1#32
  | 5 => 0x3E9FDC4A#32
  | 6 => 0xBF295D68#32
  | 7 => 0x40296FA8#32
  | 8 => 0x40882ABB#32
  | 9 => 0x3DB7EAC5#32
  | 10 => 0x3EA49269#32
  | 11 => 0x3F35E2CF#32
  | 12 => 0x3FB797D7#32
  | 13 => 0x3FC017C4#32
  | 14 => 0x3EAB9A7B#32
  | 15 => 0x3F7D68B0#32
  | 16 => 0x3D354045#32
  | 17 => 0x3F7165AE#32
  | 18 => 0x3F4677FF#32
  | 19 => 0x3FD5230B#32
  | 20 => 0x3FD499DA#32
  | 21 => 0x3F4F4C5B#32
  | 22 => 0x40A7E6CC#32
  | 23 => 0x3E19495E#32
  | 24 => 0x3EC707F3#32
  | 25 => 0x3E6A406C#32
  | 26 => 0x40141748#32
  | 27 => 0x3F01C164#32
  | 28 => 0xBE277B8D#32
  | 29 => 0xBDCB3234#32
  | 30 => 0xBF608D74#32
  | 31 => 0x3F9B605E#32
  | 32 => 0xBF63E29D#32
  | 33 => 0xBF1E46E0#32
  | 34 => 0xBF9ECE5C#32
  | 35 => 0xBDA6D2BC#32
  | 36 => 0xBF0A6A9A#32
  | 37 => 0x3D2603D3#32
  | 38 => 0x3EFA544E#32
  | 39 => 0xBF3CB29C#32
  | 40 => 0x3F7E6241#32
  | 41 => 0xBE0D6C37#32
  | 42 => 0x3F35C826#32
  | 43 => 0x3E96F5EE#32
  | 44 => 0x3F6D60CA#32
  | 45 => 0x3F80E79E#32
  | 46 => 0x400A3BAA#32
  | 47 => 0x401C85B0#32
  | 48 => 0x3FC492BC#32
  | 49 => 0x40546B1C#32
  | 50 => 0xBF80A051#32
  | 51 => 0xBF555504#32
  | 52 => 0xBEE22110#32
  | 53 => 0x3EB97972#32
  | 54 => 0xBF153786#32
  | 55 => 0x3FFA970F#32
  | 56 => 0xBB9EEE2C#32
  | 57 => 0xBEE7CD69#32
  | 58 => 0xBEEE18E8#32
  | 59 => 0x3FD64BAA#32
  | 60 => 0x3FAACBB4#32
  | 61 => 0x3DA0D308#32
  | 62 => 0xBF03EF6C#32
  | 63 => 0x3F01F053#32
  | 64 => 0x4061056D#32
  | 65 => 0xBEEB55D6#32
  | 66 => 0x40529834#32
  | 67 => 0xBFAFE974#32
  | 68 => 0x3EF50637#32
  | 69 => 0x4002C276#32
  | 70 => 0xBDD212AF#32
  | 71 => 0x3FAA296A#32
  | 72 => 0xBE62ABC0#32
  | 73 => 0xBE3A9378#32
  | 74 => 0x3FB6E4D1#32
  | 75 => 0x3F816A50#32
  | 76 => 0x4030DBD1#32
  | 77 => 0x3F983FB7#32
  | 78 => 0xBF4575D2#32
  | 79 => 0x3E195C55#32
  | 80 => 0x3F9D7D36#32
  | 81 => 0x4022D23A#32
  | 82 => 0xBE550421#32
  | 83 => 0xBF1DAFBE#32
  | 84 => 0x3F124CC1#32
  | 85 => 0x3F68EC9D#32
  | 86 => 0x3FABE0F7#32
  | 87 => 0x3FBDED08#32
  | 88 => 0x3F5F070E#32
  | 89 => 0x3F7BB3E6#32
  | 90 => 0x3F363218#32
  | 91 => 0xBE1206EA#32
  | 92 => 0x3EFBA4FA#32
  | 93 => 0x401A1CB2#32
  | 94 => 0x403BB700#32
  | 95 => 0xBEDE829A#32
  | 96 => 0x3F8E14C8#32
  | 97 => 0x3CF5D736#32
  | 98 => 0xBF521219#32
  | 99 => 0xBDFB5AF7#32
  | 100 => 0x40476C19#32
  | 101 => 0x400A9DDA#32
  | 102 => 0xBEDA67B5#32
  | 103 => 0x40A1085C#32
  | 104 => 0xBD3373AC#32
  | 105 => 0x3F2F2968#32
  | 106 => 0x402F34F2#32
  | 107 => 0x3FEFBB59#32
  | 108 => 0x3F822668#32
  | 109 => 0xBC9E7E73#32
  | 110 => 0x3FC93169#32
  | 111 => 0x3EA7F9CA#32
  | 112 => 0x3ECE46D3#32
  | 113 => 0x3F917E10#32
  | 114 => 0x3FBAD804#32
  | 115 => 0x3F15014E#32
  | 116 => 0xBFCB7D94#32
  | 117 => 0x3F523332#32
  | 118 => 0x3F6E7B32#32
  | 119 => 0x3D562B6C#32
  | 120 => 0x3E3D92F4#32
  | 121 => 0xBF9FD3AA#32
  | 122 => 0x3F6E7E76#32
  | 123 => 0x3F990F7B#32
  | 124 => 0xBF95DC5E#32
  | 125 => 0x3FCC3322#32
  | 126 => 0x3F672903#32
  | 127 => 0x3F26E5C0#32
  | _ => 0#32

noncomputable abbrev lit0t0_59 (i : Nat) : BitVec 32 := match i % 128 with
  | 0 => 0x3FE1A3EC#32
  | 1 => 0x3FB30B5B#32
  | 2 => 0x3F63D109#32
  | 3 => 0x3D4001EC#32
  | 4 => 0xBE0612F1#32
  | 5 => 0x3FB8B70D#32
  | 6 => 0xBEBA96CD#32
  | 7 => 0x40743271#32
  | 8 => 0xBDC5EF92#32
  | 9 => 0x3F0E6C57#32
  | 10 => 0x3FD3CB66#32
  | 11 => 0x4013C3E3#32
  | 12 => 0xBDE97A1A#32
  | 13 => 0x3E1546F6#32
  | 14 => 0xBD80C98A#32
  | 15 => 0x3F8FD770#32
  | 16 => 0x3E485A23#32
  | 17 => 0xBFA15B2D#32
  | 18 => 0xBF00A052#32
  | 19 => 0x3F484F75#32
  | 20 => 0x3ECA1851#32
  | 21 => 0x4026909A#32
  | 22 => 0xBEEFDCC6#32
  | 23 => 0xBF082EC6#32
  | 24 => 0x40321121#32
  | 25 => 0x3F270405#32
  | 26 => 0x407CC1F4#32
  | 27 => 0xBEEC52B3#32
  | 28 => 0x3FF76C1C#32
  | 29 => 0xBF1BA27B#32
  | 30 => 0x3ED2BB0E#32
  | 31 => 0xBF46278C#32
  | 32 => 0x3FEB4CFC#32
  | 33 => 0x401F4834#32
  | 34 => 0x3FF9D4E6#32
  | 35 => 0xBF4331F2#32
  | 36 => 0xBE6CEAB0#32
  | 37 => 0x3F85605C#32
  | 38 => 0x3FE10912#32
  | 39 => 0x402C5544#32
  | 40 => 0x3E6B92B0#32
  | 41 => 0xBF2AF9C0#32
  | 42 => 0xBF8878DD#32
  | 43 => 0x3FE1B764#32
  | 44 => 0xBE795F81#32
  | 45 => 0xBED36802#32
  | 46 => 0xBD43326D#32
  | 47 => 0x3FC0F394#32
  | 48 => 0xBF79FB4E#32
  | 49 => 0xBFB9A832#32
  | 50 => 0x3FC19F2F#32
  | 51 => 0x3EB41543#32
  | 52 => 0xBF27AF8F#32
  | 53 => 0xBF14E6EE#32
  | 54 => 0xBF32EA7B#32
  | 55 => 0xBDB16543#32
  | 56 => 0xBEA752A6#32
  | 57 => 0x3F3FCF5C#32
  | 58 => 0x3F733734#32
  | 59 => 0x4063AC56#32
  | 60 => 0x3EC4ACCD#32
  | 61 => 0xBE595BB5#32
  | 62 => 0x3F16FD97#32
  | 63 => 0x3E203C50#32
  | 64 => 0x3EA12CCC#32
  | 65 => 0x4066ECB3#32
  | 66 => 0x3FD5BE07#32
  | 67 => 0x3FC5B885#32
  | 68 => 0x3E64CDAE#32
  | 69 => 0x405F0E20#32
  | 70 => 0xBF2F89D3#32
  | 71 => 0x3F6EB361#32
  | 72 => 0x3EBDB8C1#32
  | 73 => 0x3F871328#32
  | 74 => 0x3D22E258#32
  | 75 => 0x3FA31494#32
  | 76 => 0x3F93CB8B#32
  | 77 => 0xBB7E874E#32
  | 78 => 0x4026E6C7#32
  | 79 => 0x3F4C5E3E#32
  | 80 => 0x3F9C30FD#32
  | 81 => 0x3F343840#32
  | 82 => 0xBE1192FE#32
  | 83 => 0x3FF4E48F#32
  | 84 => 0x3F478D56#32
  | 85 => 0x3FC169E4#32
  | 86 => 0xBDD902DC#32
  | 87 => 0x3FA5994B#32
  | 88 => 0x3F096798#32
  | 89 => 0x4006517E#32
  | 90 => 0x4005985D#32
  | 91 => 0x3F070DBA#32
  | 92 => 0xBEF9086E#32
  | 93 => 0x3F5C2918#32
  | 94 => 0x3F8B7AD2#32
  | 95 => 0x3EE962A8#32
  | 96 => 0x3EDAAFF8#32
  | 97 => 0x3F2C4D88#32
  | 98 => 0x3FF76DC3#32
  | 99 => 0xBDC21723#32
  | 100 => 0x4022171E#32
  | 101 => 0xBF329336#32
  | 102 => 0x3FA05DC4#32
  | 103 => 0x3DD05061#32
  | 104 => 0x3BE845C0#32
  | 105 => 0x400605B1#32
  | 106 => 0x3F4A1E25#32
  | 107 => 0xBF82F30A#32
  | 108 => 0x3D425DBD#32
  | 109 => 0x4001176C#32
  | 110 => 0x3F2BC4DD#32
  | 111 => 0x402453A2#32
  | 112 => 0x3FF6C162#32
  | 113 => 0xBFAE1EE6#32
  | 114 => 0xBD0E2F7B#32
  | 115 => 0xBF4CE207#32
  | 116 => 0x400BFEAB#32
  | 117 => 0x3E844371#32
  | 118 => 0x3F35D2B9#32
  | 119 => 0x3E29C6B0#32
  | 120 => 0xBF5FC9D6#32
  | 121 => 0xBF1A1DFA#32
  | 122 => 0x406735A6#32
  | 123 => 0x3FC3D3BA#32
  | 124 => 0xBE0AB654#32
  | 125 => 0x3F805332#32
  | 126 => 0x40075DD4#32
  | 127 => 0xBEC5032A#32
  | _ => 0#32

noncomputable abbrev lit0t0_60 (i : Nat) : BitVec 32 := match i % 128 with
  | 0 => 0x402A11FA#32
  | 1 => 0xBF4215B2#32
  | 2 => 0xBF8B33D8#32
  | 3 => 0xBF329BDB#32
  | 4 => 0x3F471834#32
  | 5 => 0x3EFE077F#32
  | 6 => 0x3F27D4B1#32
  | 7 => 0xBF4F1DD2#32
  | 8 => 0x3F347809#32
  | 9 => 0x3F32E092#32
  | 10 => 0x40B5FF1E#32
  | 11 => 0x4077C7F6#32
  | 12 => 0x4026FFE0#32
  | 13 => 0x3FCCB98C#32
  | 14 => 0x3F81073B#32
  | 15 => 0xBFC9FC0F#32
  | 16 => 0xBD0865DB#32
  | 17 => 0x3F822903#32
  | 18 => 0x3E6883F2#32
  | 19 => 0xBEEF30B6#32
  | 20 => 0xBE3EB21D#32
  | 21 => 0x40085E72#32
  | 22 => 0xBC65E42C#32
  | 23 => 0xBFB6FE7C#32
  | 24 => 0xBF950EA4#32
  | 25 => 0xBDE75493#32
  | 26 => 0xBCC4DE0C#32
  | 27 => 0xBDCCB8EB#32
  | 28 => 0x3E822DFE#32
  | 29 => 0x3FA5DC77#32
  | 30 => 0x3F6C9C48#32
  | 31 => 0x408ABF04#32
  | 32 => 0x3EE49D2B#32
  | 33 => 0x3F013532#32
  | 34 => 0x3F8A1C99#32
  | 35 => 0xBF650EA6#32
  | 36 => 0x40595BE4#32
  | 37 => 0x3C44E468#32
  | 38 => 0x402CA091#32
  | 39 => 0x3F84D903#32
  | 40 => 0xBE356F70#32
  | 41 => 0xBF9062BF#32
  | 42 => 0x3FDC684A#32
  | 43 => 0x3F95DE62#32
  | 44 => 0xBF1F7C35#32
  | 45 => 0x3FEAF235#32
  | 46 => 0xBF06CC8A#32
  | 47 => 0xBC825EC4#32
  | 48 => 0x4009BCB7#32
  | 49 => 0x3F2A77B0#32
  | 50 => 0x3E60338E#32
  | 51 => 0x3F53B69A#32
  | 52 => 0x3E51DB2E#32
  | 53 => 0xBEDCF180#32
  | 54 => 0x3D546FB8#32
  | 55 => 0x4028C585#32
  | 56 => 0x3F8012A5#32
  | 57 => 0x3F2F7AFE#32
  | 58 => 0x3F313B5E#32
  | 59 => 0x3F98C883#32
  | 60 => 0x3EDFC59D#32
  | 61 => 0xBE7E9371#32
  | 62 => 0x3F8D7A7A#32
  | 63 => 0x3FFA4563#32
  | 64 => 0x3FDE635D#32
  | 65 => 0x3E4C981B#32
  | 66 => 0xBEC9588F#32
  | 67 => 0x3FDAD549#32
  | 68 => 0x3F99D353#32
  | 69 => 0xBEE18491#32
  | 70 => 0x3EC15341#32
  | 71 => 0xBFAD723B#32
  | 72 => 0xBE8F8193#32
  | 73 => 0xBEF8E31C#32
  | 74 => 0xBDEAB13D#32
  | 75 => 0xBE6241B0#32
  | 76 => 0x3FDD54B8#32
  | 77 => 0x3EBCE2E2#32
  | 78 => 0x3F3CF732#32
  | 79 => 0x4038F587#32
  | 80 => 0x40066775#32
  | 81 => 0x400D9C4C#32
  | 82 => 0xBF926876#32
  | 83 => 0x3FDFEF73#32
  | 84 => 0xBD05689A#32
  | 85 => 0x3F69D9E3#32
  | 86 => 0x3EAC0D9B#32
  | 87 => 0x3E180844#32
  | 88 => 0xBF08904C#32
  | 89 => 0x40369988#32
  | 90 => 0xBF41A783#32
  | 91 => 0x3E688F3D#32
  | 92 => 0x3E526C0A#32
  | 93 => 0x3F998C2E#32
  | 94 => 0x3E5F61B7#32
  | 95 => 0x4030EBA0#32
  | 96 => 0x40514C74#32
  | 97 => 0x3FE1BC7A#32
  | 98 => 0xBD5BA955#32
  | 99 => 0x408C23FE#32
  | 100 => 0xBE248F65#32
  | 101 => 0xBD050868#32
  | 102 => 0xBF12402F#32
  | 103 => 0xBE5B74FA#32
  | 104 => 0x3FB0A4E7#32
  | 105 => 0x3F7529A0#32
  | 106 => 0x3F94C2D7#32
  | 107 => 0x40755522#32
  | 108 => 0x3F4475E2#32
  | 109 => 0x3F70777B#32
  | 110 => 0x3D84264E#32
  | 111 => 0xBEFE2B03#32
  | 112 => 0xBE8178E3#32
  | 113 => 0x3FFC7E71#32
  | 114 => 0x3FA24834#32
  | 115 => 0xBDD96335#32
  | 116 => 0x3EBBDA86#32
  | 117 => 0x3F7BD062#32
  | 118 => 0x40908813#32
  | 119 => 0xBFA3A9FB#32
  | 120 => 0x40042EA4#32
  | 121 => 0xBEBE6C15#32
  | 122 => 0xBF0EF1ED#32
  | 123 => 0xBF3EFE73#32
  | 124 => 0x3E5CC08A#32
  | 125 => 0x3EB18A57#32
  | 126 => 0xBFC1B15B#32
  | 127 => 0xBD95F181#32
  | _ => 0#32

noncomputable abbrev lit0t0_61 (i : Nat) : BitVec 32 := match i % 128 with
  | 0 => 0xBEAA0B6D#32
  | 1 => 0x3FAF3473#32
  | 2 => 0x3E4347CD#32
  | 3 => 0xBF6F5CCB#32
  | 4 => 0xBF764AE2#32
  | 5 => 0xBFA1E0B2#32
  | 6 => 0x3F873C22#32
  | 7 => 0x3F58AB2A#32
  | 8 => 0x3FFB2959#32
  | 9 => 0x3FFDE385#32
  | 10 => 0x3F29CB11#32
  | 11 => 0xBF08A04D#32
  | 12 => 0xBF84F081#32
  | 13 => 0x3EC1A490#32
  | 14 => 0xBF9C1C85#32
  | 15 => 0x3FB94C08#32
  | 16 => 0xBD2E8588#32
  | 17 => 0xBE0D3862#32
  | 18 => 0x3E572AE6#32
  | 19 => 0xBDFE893D#32
  | 20 => 0xBF27E702#32
  | 21 => 0x4055CC0F#32
  | 22 => 0xBED3492C#32
  | 23 => 0x405D54D1#32
  | 24 => 0xBF3339ED#32
  | 25 => 0x4005C13D#32
  | 26 => 0x4031B2A6#32
  | 27 => 0xBFB0DF6D#32
  | 28 => 0xBEBAB7E9#32
  | 29 => 0xBF2853F7#32
  | 30 => 0xBF2BD371#32
  | 31 => 0x406C87E2#32
  | 32 => 0x3F384254#32
  | 33 => 0x3E7583C0#32
  | 34 => 0xBDA8489C#32
  | 35 => 0xBE898CC0#32
  | 36 => 0x3DA551B2#32
  | 37 => 0xBEDED454#32
  | 38 => 0xBF0E4CD7#32
  | 39 => 0xBF84D750#32
  | 40 => 0x3EDCED3C#32
  | 41 => 0x3E542480#32
  | 42 => 0x3E384997#32
  | 43 => 0x400F2FE3#32
  | 44 => 0x3E0BE0E6#32
  | 45 => 0xBE7FE99C#32
  | 46 => 0x3FA2A5FB#32
  | 47 => 0x3FABEF9C#32
  | 48 => 0x3F64EC9F#32
  | 49 => 0x3F98874F#32
  | 50 => 0xBF941F67#32
  | 51 => 0x40D9B2F0#32
  | 52 => 0x3EA6E05B#32
  | 53 => 0x3FD3099C#32
  | 54 => 0x4035CC88#32
  | 55 => 0xBEEE1F53#32
  | 56 => 0xBF274B5A#32
  | 57 => 0x3EFF1FFA#32
  | 58 => 0x400C86DD#32
  | 59 => 0xBF9232A0#32
  | 60 => 0x3FDF5518#32
  | 61 => 0xBF0A8AD5#32
  | 62 => 0x404D23E8#32
  | 63 => 0x3FD732D4#32
  | 64 => 0x3F05686A#32
  | 65 => 0x3EBDBFA9#32
  | 66 => 0x3EF45A03#32
  | 67 => 0xBF5638D2#32
  | 68 => 0x3FED0ACE#32
  | 69 => 0x3FAE874E#32
  | 70 => 0xBD019C53#32
  | 71 => 0x405CC624#32
  | 72 => 0xBF6CA0B5#32
  | 73 => 0xBF685990#32
  | 74 => 0x3F242D37#32
  | 75 => 0xBF685638#32
  | 76 => 0x3F926A22#32
  | 77 => 0x3E2D10CE#32
  | 78 => 0x3F83821F#32
  | 79 => 0x3D11FE9B#32
  | 80 => 0x4030A9F5#32
  | 81 => 0xBEB90EEF#32
  | 82 => 0x3F86B6C4#32
  | 83 => 0xBEBE1A67#32
  | 84 => 0xBDFB99A7#32
  | 85 => 0x3F7958BB#32
  | 86 => 0x3EBCD422#32
  | 87 => 0xBD418E94#32
  | 88 => 0xBF5D3082#32
  | 89 => 0x3F8C811C#32
  | 90 => 0xBBF54F59#32
  | 91 => 0x3FD3A622#32
  | 92 => 0x3E0A68DF#32
  | 93 => 0x3FB6518E#32
  | 94 => 0x3DB129AE#32
  | 95 => 0x3F2ABE85#32
  | 96 => 0x3FBD7080#32
  | 97 => 0x3F252753#32
  | 98 => 0xBF1F7A2E#32
  | 99 => 0x3FF15B4E#32
  | 100 => 0xBED47B81#32
  | 101 => 0x3E84DF53#32
  | 102 => 0xBE9E4736#32
  | 103 => 0x3DD9A055#32
  | 104 => 0x4035F41E#32
  | 105 => 0xBE5DCD94#32
  | 106 => 0x3F970EAC#32
  | 107 => 0x3BA21D7E#32
  | 108 => 0x4005EEC5#32
  | 109 => 0x3DEB50C1#32
  | 110 => 0xBF934C2D#32
  | 111 => 0x3E88E566#32
  | 112 => 0x3F5DC93A#32
  | 113 => 0x3FB8EBA7#32
  | 114 => 0x3EC77BE0#32
  | 115 => 0x3F828A27#32
  | 116 => 0x3E80DA32#32
  | 117 => 0x3FDC4286#32
  | 118 => 0xBF3A8F67#32
  | 119 => 0x3FAE5BAE#32
  | 120 => 0x3E1970AE#32
  | 121 => 0x401C39C4#32
  | 122 => 0x3FB4740F#32
  | 123 => 0xBF4FC0DC#32
  | 124 => 0xBEF07973#32
  | 125 => 0x3F6218BA#32
  | 126 => 0x3D66F788#32
  | 127 => 0xBF4F2AA4#32
  | _ => 0#32

noncomputable abbrev lit0t0_62 (i : Nat) : BitVec 32 := match i % 128 with
  | 0 => 0x3EA35390#32
  | 1 => 0xBE42B3E7#32
  | 2 => 0xBE30B26C#32
  | 3 => 0x3FD038D6#32
  | 4 => 0x3F60B364#32
  | 5 => 0x3D54601F#32
  | 6 => 0x3EBD6E24#32
  | 7 => 0xBF2A4857#32
  | 8 => 0x40067D60#32
  | 9 => 0x3FEB44FB#32
  | 10 => 0x3F5E0451#32
  | 11 => 0xBF80AA33#32
  | 12 => 0xBF3B5301#32
  | 13 => 0x3F1BBBFC#32
  | 14 => 0x40139A37#32
  | 15 => 0xBF08D631#32
  | 16 => 0x40112F39#32
  | 17 => 0xBF5DEC07#32
  | 18 => 0xBF78118C#32
  | 19 => 0x3EDFF5CC#32
  | 20 => 0x3F57C4A1#32
  | 21 => 0x3FAE1CC9#32
  | 22 => 0x3FE35E16#32
  | 23 => 0x3F289A00#32
  | 24 => 0x3ED0BE5B#32
  | 25 => 0xBE07DC82#32
  | 26 => 0x3F035D95#32
  | 27 => 0x401F312F#32
  | 28 => 0x3DD05631#32
  | 29 => 0x3FCC67E9#32
  | 30 => 0xBF6FA024#32
  | 31 => 0xBF6A9C44#32
  | 32 => 0x401F8AE0#32
  | 33 => 0xBF493072#32
  | 34 => 0x4005ACF3#32
  | 35 => 0xBD65D352#32
  | 36 => 0xBF47B88D#32
  | 37 => 0xBF202C58#32
  | 38 => 0x3E628721#32
  | 39 => 0x3FA1E57E#32
  | 40 => 0x3F52A97A#32
  | 41 => 0x3D32DB06#32
  | 42 => 0x403DB01D#32
  | 43 => 0xBF750D6C#32
  | 44 => 0x3ED7E9C3#32
  | 45 => 0x3F9452C7#32
  | 46 => 0x3F1CEC08#32
  | 47 => 0x3F8B0A76#32
  | 48 => 0xBDFD136E#32
  | 49 => 0x3F0F3696#32
  | 50 => 0x3FB1A046#32
  | 51 => 0x3E210135#32
  | 52 => 0x3FAE819B#32
  | 53 => 0x3CEA3BA8#32
  | 54 => 0x3F90EB2F#32
  | 55 => 0x3FC1F54F#32
  | 56 => 0x3EA6B726#32
  | 57 => 0xBF136ACE#32
  | 58 => 0x3DAB15F9#32
  | 59 => 0x3EFA762C#32
  | 60 => 0xBF73108C#32
  | 61 => 0xBEC7CEC5#32
  | 62 => 0x403223BC#32
  | 63 => 0x3EF553D4#32
  | 64 => 0x3C5C7CDB#32
  | 65 => 0x3ED32424#32
  | 66 => 0xBEA72A7B#32
  | 67 => 0x402B310A#32
  | 68 => 0x3F8FC192#32
  | 69 => 0x3E5C4E0B#32
  | 70 => 0xBF90BE3F#32
  | 71 => 0x3FEA2EE8#32
  | 72 => 0x3F587175#32
  | 73 => 0xBE87C1F2#32
  | 74 => 0xBE9164A5#32
  | 75 => 0x4002ACE9#32
  | 76 => 0x3F8A96D3#32
  | 77 => 0x3EB2F9A5#32
  | 78 => 0xBE11068F#32
  | 79 => 0x3F20D121#32
  | 80 => 0x3FDC0377#32
  | 81 => 0xBF5EA174#32
  | 82 => 0x3EEA1AEE#32
  | 83 => 0x3F8077CB#32
  | 84 => 0xBF04A710#32
  | 85 => 0xBF3B0B54#32
  | 86 => 0xBD88A4D2#32
  | 87 => 0xBFB6F03B#32
  | 88 => 0x3FAE941B#32
  | 89 => 0x3E351665#32
  | 90 => 0x3F94516F#32
  | 91 => 0xBF9AD208#32
  | 92 => 0x3EEACC5C#32
  | 93 => 0x4037B271#32
  | 94 => 0x3C87923A#32
  | 95 => 0x3FCD27C9#32
  | 96 => 0xBF29A547#32
  | 97 => 0xBF1FFD8E#32
  | 98 => 0x3FA42720#32
  | 99 => 0x40061A87#32
  | 100 => 0x3E55A5B3#32
  | 101 => 0xBE8AB02E#32
  | 102 => 0x3C40BD57#32
  | 103 => 0x3F9AD82E#32
  | 104 => 0x3F989310#32
  | 105 => 0x3EAF567C#32
  | 106 => 0x3FC8ED8A#32
  | 107 => 0xBF1C77B6#32
  | 108 => 0xBD74A775#32
  | 109 => 0x400E0196#32
  | 110 => 0xBF3D8777#32
  | 111 => 0x3F8DE388#32
  | 112 => 0xBDDCD131#32
  | 113 => 0x3D0D1C6D#32
  | 114 => 0x3F2ACDC0#32
  | 115 => 0xBFC5AE7C#32
  | 116 => 0x3F9426A0#32
  | 117 => 0xBE118B89#32
  | 118 => 0x3E17E9B6#32
  | 119 => 0xBF36DDC4#32
  | 120 => 0xBFACA5BC#32
  | 121 => 0x3FE53F7B#32
  | 122 => 0xBE96A7FD#32
  | 123 => 0x40037E11#32
  | 124 => 0x3E5083D0#32
  | 125 => 0xBF00300F#32
  | 126 => 0xBF735791#32
  | 127 => 0xBEF03027#32
  | _ => 0#32

noncomputable abbrev lit0t0_63 (i : Nat) : BitVec 32 := match i % 128 with
  | 0 => 0xBE09B8EB#32
  | 1 => 0xBFEE6AFE#32
  | 2 => 0xBE391A69#32
  | 3 => 0xBEC1F68B#32
  | 4 => 0x40331E7A#32
  | 5 => 0xBDE96413#32
  | 6 => 0x3E322F9D#32
  | 7 => 0x402552F4#32
  | 8 => 0x3F8892D7#32
  | 9 => 0x3ECFF1A6#32
  | 10 => 0x3FE89E3A#32
  | 11 => 0xBCFCA935#32
  | 12 => 0x3ED83C04#32
  | 13 => 0x3D76C757#32
  | 14 => 0x4009953B#32
  | 15 => 0x40381BAC#32
  | 16 => 0xBF002FD0#32
  | 17 => 0x3E290A4E#32
  | 18 => 0x3F0C6B1C#32
  | 19 => 0xBF353F8E#32
  | 20 => 0x3FF368EB#32
  | 21 => 0x3EAF2EBC#32
  | 22 => 0x3F99A05A#32
  | 23 => 0xBF907032#32
  | 24 => 0xBEF74C70#32
  | 25 => 0xBF2ADE46#32
  | 26 => 0x3F1DA9DA#32
  | 27 => 0x3F24A815#32
  | 28 => 0x402BDC63#32
  | 29 => 0xBED6B24D#32
  | 30 => 0x3E9EADEF#32
  | 31 => 0x3EFE535D#32
  | 32 => 0x3EB062F5#32
  | 33 => 0x3DAC46A0#32
  | 34 => 0xBF53F438#32
  | 35 => 0xBE53A4ED#32
  | 36 => 0x3F8F5E0A#32
  | 37 => 0x3E4BABD8#32
  | 38 => 0xBF31CE47#32
  | 39 => 0x40681546#32
  | 40 => 0xBE026367#32
  | 41 => 0x3F29BF0E#32
  | 42 => 0xBFACA0B8#32
  | 43 => 0xBF832704#32
  | 44 => 0x3EC4240D#32
  | 45 => 0xBDB9CC50#32
  | 46 => 0xBEB67CF2#32
  | 47 => 0x3E65DF0D#32
  | 48 => 0x401F016D#32
  | 49 => 0x3F1E4F7E#32
  | 50 => 0x3B4BCD0A#32
  | 51 => 0x3FD683EE#32
  | 52 => 0x3FCE09AA#32
  | 53 => 0x3F366FAF#32
  | 54 => 0x3D9D6AA1#32
  | 55 => 0x3EE83ABB#32
  | 56 => 0xBF21BBE5#32
  | 57 => 0xBEF78239#32
  | 58 => 0xBFB1E43E#32
  | 59 => 0x3EB00EFB#32
  | 60 => 0x3EEE4D63#32
  | 61 => 0xBF4C8A70#32
  | 62 => 0x3F2E1FAF#32
  | 63 => 0x3F91A666#32
  | 64 => 0x40366F90#32
  | 65 => 0x3F59487B#32
  | 66 => 0x4003249C#32
  | 67 => 0x3EF551C2#32
  | 68 => 0xBE3EBD01#32
  | 69 => 0x3E5959F9#32
  | 70 => 0x3EE951D9#32
  | 71 => 0xBF4B6526#32
  | 72 => 0x3F077775#32
  | 73 => 0x3E7BEE42#32
  | 74 => 0xBEA0B323#32
  | 75 => 0x3F92B3C1#32
  | 76 => 0xBD2562DC#32
  | 77 => 0xBED5189D#32
  | 78 => 0xBD911424#32
  | 79 => 0x3FB26C0A#32
  | 80 => 0x3FF4CE7A#32
  | 81 => 0x4094E308#32
  | 82 => 0xBF683112#32
  | 83 => 0x3CE64ED1#32
  | 84 => 0x3F9476D1#32
  | 85 => 0x3FF7247E#32
  | 86 => 0xBEB359C8#32
  | 87 => 0xBF5D4AAF#32
  | 88 => 0xBEFE872E#32
  | 89 => 0x3E876218#32
  | 90 => 0xBEB5A7AD#32
  | 91 => 0x3F8C7316#32
  | 92 => 0x3FA4DBB1#32
  | 93 => 0x3F96E977#32
  | 94 => 0x3EE38C8A#32
  | 95 => 0x3FC2F163#32
  | 96 => 0x3E9BEB1A#32
  | 97 => 0xBE43813E#32
  | 98 => 0x406BC815#32
  | 99 => 0x3C26E8EA#32
  | 100 => 0xBF2BB596#32
  | 101 => 0x3F319CFF#32
  | 102 => 0xBF8166D6#32
  | 103 => 0x402B59C6#32
  | 104 => 0x3EFCDDA6#32
  | 105 => 0x3E9CA852#32
  | 106 => 0x402526C1#32
  | 107 => 0x3EEA7E54#32
  | 108 => 0x3EF1E61C#32
  | 109 => 0x3FB5E8CF#32
  | 110 => 0x3FAEB988#32
  | 111 => 0x40846A8E#32
  | 112 => 0x3F025904#32
  | 113 => 0x3E0C2011#32
  | 114 => 0x3F08E57F#32
  | 115 => 0xBF4D1A57#32
  | 116 => 0x3FD01435#32
  | 117 => 0x408CEABE#32
  | 118 => 0x400DF451#32
  | 119 => 0x3E7F8481#32
  | 120 => 0xBF6F9B98#32
  | 121 => 0x4008CFA0#32
  | 122 => 0x3D8AD715#32
  | 123 => 0x3FDC5A35#32
  | 124 => 0xBD1731C3#32
  | 125 => 0x3DE366F4#32
  | 126 => 0xBEB530A4#32
  | 127 => 0x3FE1D8CE#32
  | _ => 0#32

noncomputable abbrev lit0t0_64 (i : Nat) : BitVec 32 := match i % 128 with
  | 0 => 0x3FA8605E#32
  | 1 => 0x3F82BC9E#32
  | 2 => 0x4008FCE8#32
  | 3 => 0xBF13F797#32
  | 4 => 0x3F866C0E#32
  | 5 => 0xBED2D681#32
  | 6 => 0x3F98F1D1#32
  | 7 => 0x3D4CF9C6#32
  | 8 => 0x3EF8764A#32
  | 9 => 0xBDC06FB9#32
  | 10 => 0x3F6D7BDD#32
  | 11 => 0xBFDE938F#32
  | 12 => 0x400366F4#32
  | 13 => 0x3DF60A93#32
  | 14 => 0xBF984380#32
  | 15 => 0x3FD1AD0D#32
  | 16 => 0x3EB9A065#32
  | 17 => 0x3EAE65F4#32
  | 18 => 0x402E3346#32
  | 19 => 0x40051F4D#32
  | 20 => 0x400DA04D#32
  | 21 => 0xBDA55C12#32
  | 22 => 0xBF5393C5#32
  | 23 => 0xBFB16159#32
  | 24 => 0xBEE16620#32
  | 25 => 0x3FDE60B8#32
  | 26 => 0x407F21C7#32
  | 27 => 0xBE6E49D3#32
  | 28 => 0x3FA82578#32
  | 29 => 0x3F03B250#32
  | 30 => 0x3FCFEC03#32
  | 31 => 0x3FD7F4CE#32
  | 32 => 0xBEA1DA94#32
  | 33 => 0xBFAA70E4#32
  | 34 => 0x3F51586E#32
  | 35 => 0xBE8B89F5#32
  | 36 => 0xBE72ADCB#32
  | 37 => 0x3E913EF0#32
  | 38 => 0x3F86E13A#32
  | 39 => 0xBE6FC3F8#32
  | 40 => 0xBF64262F#32
  | 41 => 0x3E9C797E#32
  | 42 => 0xBED6310B#32
  | 43 => 0x3DC120DC#32
  | 44 => 0x3EE97209#32
  | 45 => 0xBF1CC882#32
  | 46 => 0x406D4F20#32
  | 47 => 0xBF982C63#32
  | 48 => 0xBF688ADC#32
  | 49 => 0x3FA49DBE#32
  | 50 => 0x3E33FA5C#32
  | 51 => 0x3DC69B11#32
  | 52 => 0xBE9ABAC9#32
  | 53 => 0x3FF64AF6#32
  | 54 => 0x3F53082E#32
  | 55 => 0x3F2518B6#32
  | 56 => 0x3FBE7CF5#32
  | 57 => 0x3EC28F55#32
  | 58 => 0xBF445625#32
  | 59 => 0x404FE9FF#32
  | 60 => 0x40127E58#32
  | 61 => 0x3EA27BF3#32
  | 62 => 0xBBE07CB2#32
  | 63 => 0x3F888B07#32
  | 64 => 0x3F3264C9#32
  | 65 => 0x3FC5A3E7#32
  | 66 => 0x3F15A923#32
  | 67 => 0xBF4C9A40#32
  | 68 => 0x409CB14B#32
  | 69 => 0x3EBDDDC3#32
  | 70 => 0xBE748EAA#32
  | 71 => 0xBFBE4DC8#32
  | 72 => 0xBF55BE6C#32
  | 73 => 0x3E298006#32
  | 74 => 0xBEF1F1C8#32
  | 75 => 0xBFA71A55#32
  | 76 => 0xBEC3701A#32
  | 77 => 0x3EDD9590#32
  | 78 => 0x3FABD7AF#32
  | 79 => 0xBF040067#32
  | 80 => 0x3EECCCCA#32
  | 81 => 0x3FFF5DAE#32
  | 82 => 0x3EF53A22#32
  | 83 => 0x4053495D#32
  | 84 => 0x3F35E569#32
  | 85 => 0x3FBE0CB8#32
  | 86 => 0x3FEFC846#32
  | 87 => 0x3E5DB32F#32
  | 88 => 0x3FA3A119#32
  | 89 => 0xBCD8A65A#32
  | 90 => 0xBF866FDA#32
  | 91 => 0xBF26274D#32
  | 92 => 0x3F6E4492#32
  | 93 => 0x4023F37E#32
  | 94 => 0xBEDEAE4D#32
  | 95 => 0x3FB36E57#32
  | 96 => 0x3F084546#32
  | 97 => 0x3F04E3A0#32
  | 98 => 0xBD966FC6#32
  | 99 => 0xBE5BC599#32
  | 100 => 0x400E05D5#32
  | 101 => 0xBC5F69C6#32
  | 102 => 0x401ECD27#32
  | 103 => 0xBF8FF3C5#32
  | 104 => 0xBF149227#32
  | 105 => 0x3FA52E2A#32
  | 106 => 0x401CFC44#32
  | 107 => 0xBFB82D06#32
  | 108 => 0xBF72C490#32
  | 109 => 0x3F1A7896#32
  | 110 => 0x3F0CEA51#32
  | 111 => 0x403F8551#32
  | 112 => 0xBEB96BBC#32
  | 113 => 0xBE5ECFE9#32
  | 114 => 0x3FD96E0C#32
  | 115 => 0x3E23D7F7#32
  | 116 => 0xBECC751C#32
  | 117 => 0xBE174AF9#32
  | 118 => 0x3FAB4DA6#32
  | 119 => 0x3F9DBE26#32
  | 120 => 0x3FB61588#32
  | 121 => 0xBF156F05#32
  | 122 => 0x3F18EC9C#32
  | 123 => 0xBD80C2F8#32
  | 124 => 0x3FC7F3BE#32
  | 125 => 0x3F0D0F95#32
  | 126 => 0x3ECCD316#32
  | 127 => 0x3E3C3901#32
  | _ => 0#32

noncomputable abbrev lit0t0_65 (i : Nat) : BitVec 32 := match i % 128 with
  | 0 => 0x3FA80A1A#32
  | 1 => 0x3F8F65B4#32
  | 2 => 0xBEC5F30C#32
  | 3 => 0xBF08BB4E#32
  | 4 => 0x3FE29BD7#32
  | 5 => 0x3F93A309#32
  | 6 => 0xBF87F1EE#32
  | 7 => 0x3FBDDA4C#32
  | 8 => 0x3FFE18D2#32
  | 9 => 0xBE8CF0A1#32
  | 10 => 0x3F2E3A4F#32
  | 11 => 0xBD1757D4#32
  | 12 => 0x3FC62635#32
  | 13 => 0x3FB584E8#32
  | 14 => 0x3E9E18D3#32
  | 15 => 0x3F9D7CE3#32
  | 16 => 0x4055B2F0#32
  | 17 => 0xBE163062#32
  | 18 => 0x3FFD22B6#32
  | 19 => 0x3EB7B3D1#32
  | 20 => 0xBF54DFE8#32
  | 21 => 0x3FACE2C8#32
  | 22 => 0xBEA2D37B#32
  | 23 => 0x3E98C2AB#32
  | 24 => 0xBF826B6F#32
  | 25 => 0xBED47809#32
  | 26 => 0xBDEB08AE#32
  | 27 => 0x3DAD2E70#32
  | 28 => 0x3F77EA37#32
  | 29 => 0x3C6142DE#32
  | 30 => 0x404FE845#32
  | 31 => 0x3EEB5A84#32
  | 32 => 0x3E3E06A3#32
  | 33 => 0x3FC1F483#32
  | 34 => 0x3F7988C5#32
  | 35 => 0x3D9E12F4#32
  | 36 => 0x3FC89F66#32
  | 37 => 0x3E979DD9#32
  | 38 => 0x3FC2D1E0#32
  | 39 => 0xBF87EEF6#32
  | 40 => 0xBF2484FE#32
  | 41 => 0xBEFEAC90#32
  | 42 => 0x3F56C81D#32
  | 43 => 0xBF27DC50#32
  | 44 => 0x3E082596#32
  | 45 => 0xBE273239#32
  | 46 => 0x3DFB300F#32
  | 47 => 0xBEA56438#32
  | 48 => 0x3EAC8568#32
  | 49 => 0x3F8967CD#32
  | 50 => 0xBC0A8AA0#32
  | 51 => 0xBDC36A4C#32
  | 52 => 0x3FA193C7#32
  | 53 => 0xBF5FA780#32
  | 54 => 0xBEFB5F69#32
  | 55 => 0xBE0352F8#32
  | 56 => 0x3FE41746#32
  | 57 => 0x3F169050#32
  | 58 => 0x3F02ED6F#32
  | 59 => 0xBE250A33#32
  | 60 => 0xBE9F2870#32
  | 61 => 0x4021E35E#32
  | 62 => 0xBE28AD59#32
  | 63 => 0xBF6AF19C#32
  | 64 => 0xBF3012CD#32
  | 65 => 0xBF2E21B6#32
  | 66 => 0xBF55B109#32
  | 67 => 0xBFF67EA1#32
  | 68 => 0xBF216790#32
  | 69 => 0x3F0D10B2#32
  | 70 => 0xBF44A368#32
  | 71 => 0x3E84AA81#32
  | 72 => 0x3F5F6943#32
  | 73 => 0x3F4F4CA2#32
  | 74 => 0xBFA9D00F#32
  | 75 => 0x3F09BECC#32
  | 76 => 0x3E4C894D#32
  | 77 => 0xBDA41ED5#32
  | 78 => 0x3F853017#32
  | 79 => 0xBF947DD1#32
  | 80 => 0x40614C76#32
  | 81 => 0x3F9D694D#32
  | 82 => 0x3F33280C#32
  | 83 => 0x3F5FB7D4#32
  | 84 => 0x3F2A028A#32
  | 85 => 0xBF09B48A#32
  | 86 => 0xBEE78218#32
  | 87 => 0xBECB9F26#32
  | 88 => 0x3FE77A30#32
  | 89 => 0xBD0377ED#32
  | 90 => 0x3F50978A#32
  | 91 => 0x3FCCFD49#32
  | 92 => 0xBF2F6FB4#32
  | 93 => 0x4000F594#32
  | 94 => 0x3F2B8F58#32
  | 95 => 0x3F9A1915#32
  | 96 => 0x3F4F95A5#32
  | 97 => 0x3F95B90A#32
  | 98 => 0xBF0F31C1#32
  | 99 => 0x3F9EAD16#32
  | 100 => 0x3F19F9E6#32
  | 101 => 0x3F300771#32
  | 102 => 0xBF4922A4#32
  | 103 => 0xBC4D053E#32
  | 104 => 0x3E527A6A#32
  | 105 => 0x3E82A97B#32
  | 106 => 0xBEB3E52F#32
  | 107 => 0xBDD88D77#32
  | 108 => 0xBFA2BDA7#32
  | 109 => 0x3FFB024E#32
  | 110 => 0xBE2C01F2#32
  | 111 => 0x3F5B64B5#32
  | 112 => 0x3FC30359#32
  | 113 => 0x3E458C0F#32
  | 114 => 0x402BEDD7#32
  | 115 => 0xBF804B73#32
  | 116 => 0xBD920294#32
  | 117 => 0x39D8B377#32
  | 118 => 0xBFDF3CB4#32
  | 119 => 0xBFCAFDB6#32
  | 120 => 0xBD800C76#32
  | 121 => 0x3CE5CC32#32
  | 122 => 0xBF23597E#32
  | 123 => 0xBF4C94CC#32
  | 124 => 0xBF04A7B7#32
  | 125 => 0x3F36B976#32
  | 126 => 0xBF14E849#32
  | 127 => 0xBE8E0245#32
  | _ => 0#32

noncomputable abbrev lit0t0_66 (i : Nat) : BitVec 32 := match i % 128 with
  | 0 => 0xBEC24201#32
  | 1 => 0x3C54EEB1#32
  | 2 => 0xBFA180B2#32
  | 3 => 0x3E9ECB79#32
  | 4 => 0x4043E29C#32
  | 5 => 0xBE9A4444#32
  | 6 => 0x3F2AD450#32
  | 7 => 0x408DC24E#32
  | 8 => 0xBF8D72EA#32
  | 9 => 0x3F9705FA#32
  | 10 => 0x407F8DD6#32
  | 11 => 0xBF9FA4B5#32
  | 12 => 0xBF71E725#32
  | 13 => 0xBFABC658#32
  | 14 => 0x40325FFE#32
  | 15 => 0x403023E6#32
  | 16 => 0x3E9EEDC5#32
  | 17 => 0x3E8B4733#32
  | 18 => 0xBECAF56A#32
  | 19 => 0x3FA8BD6D#32
  | 20 => 0x3EC4148C#32
  | 21 => 0xBF739D96#32
  | 22 => 0xBE01C079#32
  | 23 => 0xBF1C2E4B#32
  | 24 => 0x3DDEC063#32
  | 25 => 0x4077521D#32
  | 26 => 0xBE33E51E#32
  | 27 => 0x40258F36#32
  | 28 => 0x4046B906#32
  | 29 => 0x3FE59CAC#32
  | 30 => 0x3F8C6E50#32
  | 31 => 0x402E1165#32
  | 32 => 0x3FC7B26E#32
  | 33 => 0x3F8AE2D0#32
  | 34 => 0xBE74E30B#32
  | 35 => 0xBF2C864D#32
  | 36 => 0xBF5734F8#32
  | 37 => 0x3FF451B3#32
  | 38 => 0x3C0CAA24#32
  | 39 => 0x3EEEFCC0#32
  | 40 => 0x40AAE716#32
  | 41 => 0xBF07C121#32
  | 42 => 0x3E240653#32
  | 43 => 0xBCC6C004#32
  | 44 => 0x3F3C7497#32
  | 45 => 0xBDECB34A#32
  | 46 => 0x3FB61A01#32
  | 47 => 0xBF161D24#32
  | 48 => 0x3F93F9AF#32
  | 49 => 0x3F0144E3#32
  | 50 => 0x3FB50B46#32
  | 51 => 0xBF240FBA#32
  | 52 => 0x4040A384#32
  | 53 => 0x3E9274AD#32
  | 54 => 0x40483865#32
  | 55 => 0xBE960924#32
  | 56 => 0x400AB6BE#32
  | 57 => 0x3F0809B1#32
  | 58 => 0x3F9EF34A#32
  | 59 => 0xBEDFDE88#32
  | 60 => 0xBF3AB74E#32
  | 61 => 0x3F5B25F9#32
  | 62 => 0xBE453FE9#32
  | 63 => 0x3D3DFB4B#32
  | 64 => 0x3E544BEE#32
  | 65 => 0x4008684D#32
  | 66 => 0x40425B04#32
  | 67 => 0xBD7492BB#32
  | 68 => 0x3F9BC93B#32
  | 69 => 0xBE3C09FC#32
  | 70 => 0x40324269#32
  | 71 => 0x3DC435B4#32
  | 72 => 0xBF127E41#32
  | 73 => 0x3FAE6C64#32
  | 74 => 0xBECC9A42#32
  | 75 => 0xBF5B6ED7#32
  | 76 => 0x3FE4265B#32
  | 77 => 0xBFB98DC4#32
  | 78 => 0x3D0DDA71#32
  | 79 => 0xBF89EBF8#32
  | 80 => 0xBD6DAA74#32
  | 81 => 0x3F5E41F6#32
  | 82 => 0xBF7B87D5#32
  | 83 => 0xBE24A6BB#32
  | 84 => 0x407C512D#32
  | 85 => 0x402C30FF#32
  | 86 => 0x3EC7CB5A#32
  | 87 => 0xBFD3180E#32
  | 88 => 0xBFAB27E9#32
  | 89 => 0xBF8EF8A2#32
  | 90 => 0x4022A6C2#32
  | 91 => 0xBED41297#32
  | 92 => 0x3E8FA315#32
  | 93 => 0x3F959544#32
  | 94 => 0x3F086BBC#32
  | 95 => 0x3F48DD82#32
  | 96 => 0xBE66DA8D#32
  | 97 => 0xBF85AEB0#32
  | 98 => 0x3F979832#32
  | 99 => 0x3F9835BA#32
  | 100 => 0x3F5122CE#32
  | 101 => 0x3FA78D99#32
  | 102 => 0x3F4615FC#32
  | 103 => 0xBEF3DF73#32
  | 104 => 0x3F72059C#32
  | 105 => 0x3D7A2F28#32
  | 106 => 0xBEE23419#32
  | 107 => 0xBFBFC78F#32
  | 108 => 0xBF956BE4#32
  | 109 => 0x3F5C1E13#32
  | 110 => 0x3FFE2397#32
  | 111 => 0x3ED188B1#32
  | 112 => 0x3ED0D1F3#32
  | 113 => 0xBE8D82B9#32
  | 114 => 0x3F184A58#32
  | 115 => 0xBF2F56B3#32
  | 116 => 0xBF22A315#32
  | 117 => 0x3D5195F4#32
  | 118 => 0x3FB364D2#32
  | 119 => 0xBF4F63A4#32
  | 120 => 0xBF9933C0#32
  | 121 => 0x3F589CBC#32
  | 122 => 0x3F86CB08#32
  | 123 => 0xBF6B2110#32
  | 124 => 0x4045A497#32
  | 125 => 0x3F9D4408#32
  | 126 => 0x40269D95#32
  | 127 => 0x4005A98B#32
  | _ => 0#32

noncomputable abbrev lit0t0_67 (i : Nat) : BitVec 32 := match i % 128 with
  | 0 => 0xBF88E391#32
  | 1 => 0x3F03B04A#32
  | 2 => 0x3FF5E54C#32
  | 3 => 0xBEE2C2CF#32
  | 4 => 0xBEF7C756#32
  | 5 => 0x3FEC465D#32
  | 6 => 0xBF3AF53F#32
  | 7 => 0x3E94E2C0#32
  | 8 => 0xBEFD40BF#32
  | 9 => 0x3F24991E#32
  | 10 => 0x40653D74#32
  | 11 => 0x3E128F3B#32
  | 12 => 0xBE3620B2#32
  | 13 => 0x3F327F94#32
  | 14 => 0x3E6000A8#32
  | 15 => 0xBF531101#32
  | 16 => 0xBF76CA32#32
  | 17 => 0x3FA87E85#32
  | 18 => 0x3F233D07#32
  | 19 => 0xBED53C56#32
  | 20 => 0x3FD25A51#32
  | 21 => 0x3CC32A74#32
  | 22 => 0x3F8B7DBF#32
  | 23 => 0x4012983A#32
  | 24 => 0xBE3D3C9E#32
  | 25 => 0x3FC0E854#32
  | 26 => 0x3FB1D650#32
  | 27 => 0x3F4B0F7F#32
  | 28 => 0x3FEB55E9#32
  | 29 => 0x3E097605#32
  | 30 => 0x40773ABD#32
  | 31 => 0xBEDAD5EF#32
  | 32 => 0xBDC0C0CB#32
  | 33 => 0x401DC4D4#32
  | 34 => 0x3F8DACD6#32
  | 35 => 0xBF78CE21#32
  | 36 => 0x3FA0EB73#32
  | 37 => 0xBF960275#32
  | 38 => 0x3E8332A9#32
  | 39 => 0x402E79BF#32
  | 40 => 0xBF92D6BA#32
  | 41 => 0x3F3CEA3A#32
  | 42 => 0x3E60EBBA#32
  | 43 => 0x4010A678#32
  | 44 => 0x3E7904F2#32
  | 45 => 0xBD02728B#32
  | 46 => 0xBEDF5CB1#32
  | 47 => 0x3F7C1EC0#32
  | 48 => 0x3F6CC96F#32
  | 49 => 0xBC80321F#32
  | 50 => 0xBF675DFD#32
  | 51 => 0xBE79E980#32
  | 52 => 0x4053EC1B#32
  | 53 => 0x3DBDE60C#32
  | 54 => 0x3F01215B#32
  | 55 => 0x3E83BEAC#32
  | 56 => 0x3E71C32C#32
  | 57 => 0x3F03CD97#32
  | 58 => 0xBDB8DB62#32
  | 59 => 0x3E681EBF#32
  | 60 => 0xBDF3C0B8#32
  | 61 => 0x40B0D20D#32
  | 62 => 0xBEA540AA#32
  | 63 => 0x3F67CACD#32
  | 64 => 0xBF3E6092#32
  | 65 => 0x40928587#32
  | 66 => 0xBF766DDA#32
  | 67 => 0xBF1F1C26#32
  | 68 => 0x40B7BA04#32
  | 69 => 0x4000D99D#32
  | 70 => 0x3CEB3EB9#32
  | 71 => 0xBED37B08#32
  | 72 => 0x3FEBADEB#32
  | 73 => 0x3DA6E801#32
  | 74 => 0xBF41C4A4#32
  | 75 => 0x3EFF5A4A#32
  | 76 => 0xBE8F25B2#32
  | 77 => 0x3E8C390A#32
  | 78 => 0x3F15EC18#32
  | 79 => 0xBFE0927E#32
  | 80 => 0x3E76A9DD#32
  | 81 => 0x3E8C19D4#32
  | 82 => 0x3E56B800#32
  | 83 => 0x3D85E1C1#32
  | 84 => 0x3EBD0542#32
  | 85 => 0xBF826AEB#32
  | 86 => 0x3EF77A66#32
  | 87 => 0x3FEB9C25#32
  | 88 => 0xBF14C4C3#32
  | 89 => 0x3D800090#32
  | 90 => 0x3E5F4889#32
  | 91 => 0xBEE4A554#32
  | 92 => 0x3FFF08FB#32
  | 93 => 0x400694ED#32
  | 94 => 0x3F41CF03#32
  | 95 => 0xBE8B5CF6#32
  | 96 => 0x3FD44C7F#32
  | 97 => 0x400B4D7F#32
  | 98 => 0x3F9F7F76#32
  | 99 => 0xBE937A5E#32
  | 100 => 0xBF2519FC#32
  | 101 => 0xBEE6377C#32
  | 102 => 0xBE58C729#32
  | 103 => 0xBF131099#32
  | 104 => 0x405156DE#32
  | 105 => 0xBE9EA246#32
  | 106 => 0x40314E02#32
  | 107 => 0xBEB7CF03#32
  | 108 => 0x4007615B#32
  | 109 => 0x3F1CBEB9#32
  | 110 => 0x3F49A0B6#32
  | 111 => 0x40318A99#32
  | 112 => 0x3F9E0640#32
  | 113 => 0xBE19DE26#32
  | 114 => 0xBF98A9D4#32
  | 115 => 0xBEAA6254#32
  | 116 => 0x3FC56D60#32
  | 117 => 0x3FC82A17#32
  | 118 => 0x401E2CF4#32
  | 119 => 0x3E115F6E#32
  | 120 => 0x403AFC7E#32
  | 121 => 0x3ED0CB32#32
  | 122 => 0xBF477853#32
  | 123 => 0x3EBDF7A2#32
  | 124 => 0xBFA6DD56#32
  | 125 => 0x3FEBAEB2#32
  | 126 => 0xBF6748E1#32
  | 127 => 0x3EC2CBAE#32
  | _ => 0#32

noncomputable abbrev lit0t0_68 (i : Nat) : BitVec 32 := match i % 128 with
  | 0 => 0x4053DE0F#32
  | 1 => 0x3FF023A6#32
  | 2 => 0xBF6C9574#32
  | 3 => 0x3FA89EEF#32
  | 4 => 0x3F6D6A4B#32
  | 5 => 0x3FB0D2A7#32
  | 6 => 0xBF07BF5F#32
  | 7 => 0x3FDD17C6#32
  | 8 => 0xBF7F2D34#32
  | 9 => 0x3EE00682#32
  | 10 => 0xBE192089#32
  | 11 => 0xBE697F6A#32
  | 12 => 0x3F98CFD3#32
  | 13 => 0x3F1B0E56#32
  | 14 => 0xBF3487DD#32
  | 15 => 0xBE0524ED#32
  | 16 => 0x3F641D88#32
  | 17 => 0x3F38678A#32
  | 18 => 0x3DF832AD#32
  | 19 => 0xBFAB8646#32
  | 20 => 0xBF88165C#32
  | 21 => 0xBEC1C145#32
  | 22 => 0xBF5EF586#32
  | 23 => 0x3FE06B9C#32
  | 24 => 0xC002B5AD#32
  | 25 => 0x3F952BAC#32
  | 26 => 0x3E69C4AC#32
  | 27 => 0x3DD0E7D4#32
  | 28 => 0xBECB3289#32
  | 29 => 0x3FC6E94A#32
  | 30 => 0x3FB2A612#32
  | 31 => 0xBF851A86#32
  | 32 => 0x3F55B4AA#32
  | 33 => 0x3DDD40D4#32
  | 34 => 0xBF84A4AB#32
  | 35 => 0xBF9E9E2B#32
  | 36 => 0x3FF795F0#32
  | 37 => 0x3FFD24A1#32
  | 38 => 0x3EB0D782#32
  | 39 => 0xBE1CBD35#32
  | 40 => 0x3E7B146F#32
  | 41 => 0xBA3DE663#32
  | 42 => 0xBF80C2EB#32
  | 43 => 0x4002345A#32
  | 44 => 0xBF8C02F4#32
  | 45 => 0xBF395FAB#32
  | 46 => 0xBDA72A5B#32
  | 47 => 0xBEEF91FA#32
  | 48 => 0x3DC3A7B7#32
  | 49 => 0x401ABCF0#32
  | 50 => 0x402F519F#32
  | 51 => 0x404C37AB#32
  | 52 => 0xBE53A6DC#32
  | 53 => 0x3F8FB6AF#32
  | 54 => 0x3FDB9893#32
  | 55 => 0x3F813620#32
  | 56 => 0xBE6F4CC9#32
  | 57 => 0xBDD6790C#32
  | 58 => 0x403120C1#32
  | 59 => 0x3F458CD8#32
  | 60 => 0xBE9849EF#32
  | 61 => 0xBE9C7560#32
  | 62 => 0x3FA79E10#32
  | 63 => 0x3F240BB6#32
  | 64 => 0x3FC6A1C9#32
  | 65 => 0xBE1F3D02#32
  | 66 => 0x3F04D603#32
  | 67 => 0x3DE572FB#32
  | 68 => 0x3FC9C2A4#32
  | 69 => 0xBFC51D02#32
  | 70 => 0x3F67EE19#32
  | 71 => 0x3F083365#32
  | 72 => 0x3E1CBDBA#32
  | 73 => 0x3FA19AEC#32
  | 74 => 0xBE2EA158#32
  | 75 => 0x3F6DE8AC#32
  | 76 => 0x3F5FFC22#32
  | 77 => 0x3EB98EA6#32
  | 78 => 0xBF0FBB5B#32
  | 79 => 0x3FB24944#32
  | 80 => 0xBF99D077#32
  | 81 => 0x3E3707B5#32
  | 82 => 0xBEC17313#32
  | 83 => 0x3F77A048#32
  | 84 => 0x3FAB2769#32
  | 85 => 0xBF4B91A9#32
  | 86 => 0x3C9C3E46#32
  | 87 => 0x3DAB2AC3#32
  | 88 => 0x3FD68080#32
  | 89 => 0xBCB4DB24#32
  | 90 => 0x3F2A87AD#32
  | 91 => 0x3ECA6AB5#32
  | 92 => 0x3D49F1CD#32
  | 93 => 0xBFDED65B#32
  | 94 => 0x3FF5A931#32
  | 95 => 0x40800119#32
  | 96 => 0xBE743940#32
  | 97 => 0xBD2497B6#32
  | 98 => 0x40A87412#32
  | 99 => 0x3F89EFF0#32
  | 100 => 0x3F006FA9#32
  | 101 => 0x3E6A502D#32
  | 102 => 0x3F9552CA#32
  | 103 => 0x406EB26B#32
  | 104 => 0xBC62A6CE#32
  | 105 => 0x3F52B46A#32
  | 106 => 0x408753BF#32
  | 107 => 0x3EDF8F93#32
  | 108 => 0x3F94F82D#32
  | 109 => 0x3F9D4183#32
  | 110 => 0x3F991E02#32
  | 111 => 0x4059875B#32
  | 112 => 0xBF52E28A#32
  | 113 => 0x3F8CDCC6#32
  | 114 => 0x3F19E03A#32
  | 115 => 0x3F210590#32
  | 116 => 0xBEF3AFEB#32
  | 117 => 0x40B3B82E#32
  | 118 => 0x3FDF53C4#32
  | 119 => 0xBF0F93BF#32
  | 120 => 0xBEC37B50#32
  | 121 => 0xBE3EB6B4#32
  | 122 => 0xBF0A0A2C#32
  | 123 => 0x3EFBA6E8#32
  | 124 => 0xBF16B376#32
  | 125 => 0x3F7E9B64#32
  | 126 => 0xBED6153C#32
  | 127 => 0x3FAC453F#32
  | _ => 0#32

noncomputable abbrev lit0t0_69 (i : Nat) : BitVec 32 := match i % 128 with
  | 0 => 0x3FC9223A#32
  | 1 => 0xBEEEB4A5#32
  | 2 => 0xBF468B5C#32
  | 3 => 0x3F8DD089#32
  | 4 => 0xBE2FDFE1#32
  | 5 => 0x3F72FE79#32
  | 6 => 0x40C1FA6F#32
  | 7 => 0xBD246829#32
  | 8 => 0x3F56A772#32
  | 9 => 0x40003725#32
  | 10 => 0x408DF6E5#32
  | 11 => 0x3FD8003D#32
  | 12 => 0x400B0A6B#32
  | 13 => 0x3FB0B6B2#32
  | 14 => 0x3F0B42CC#32
  | 15 => 0x3F61B18B#32
  | 16 => 0x3F0559AB#32
  | 17 => 0x3FD87FD0#32
  | 18 => 0xBD9C8D3F#32
  | 19 => 0x3ED43FCE#32
  | 20 => 0xBE3EBCAB#32
  | 21 => 0xBD91FEAD#32
  | 22 => 0xBDCFFC03#32
  | 23 => 0x405CA978#32
  | 24 => 0xBE50EF7B#32
  | 25 => 0xBD672DC5#32
  | 26 => 0xBED328B5#32
  | 27 => 0xBEFB81F5#32
  | 28 => 0x3EB496CF#32
  | 29 => 0x3E097D0F#32
  | 30 => 0x3F7B3F74#32
  | 31 => 0x3F9567CF#32
  | 32 => 0x40A9B1DC#32
  | 33 => 0x403F5643#32
  | 34 => 0xBF8B7917#32
  | 35 => 0x3E4C77E7#32
  | 36 => 0xBF7E6F7A#32
  | 37 => 0xBE815273#32
  | 38 => 0x4017666E#32
  | 39 => 0x3E9D5EB3#32
  | 40 => 0x3EFB8BD5#32
  | 41 => 0xBF39A286#32
  | 42 => 0xBCCEB4BC#32
  | 43 => 0xBF039862#32
  | 44 => 0xBF1F0CC8#32
  | 45 => 0xBF831BA0#32
  | 46 => 0xBF894473#32
  | 47 => 0x3F0D2AD2#32
  | 48 => 0x3F3CCAD7#32
  | 49 => 0xBF23EB58#32
  | 50 => 0xBE8B48F7#32
  | 51 => 0xBE5B5F36#32
  | 52 => 0x3F5179ED#32
  | 53 => 0x3FE8979B#32
  | 54 => 0x3F4ACDEC#32
  | 55 => 0xBF517810#32
  | 56 => 0x3F384EE2#32
  | 57 => 0xBF7D3446#32
  | 58 => 0x3EB1BFB9#32
  | 59 => 0x3F734340#32
  | 60 => 0xBF98EF9B#32
  | 61 => 0x3FB2AE99#32
  | 62 => 0xBE1BF714#32
  | 63 => 0xBEC9D50A#32
  | 64 => 0xBE35A0EE#32
  | 65 => 0x3F9407EB#32
  | 66 => 0x3EDEB05E#32
  | 67 => 0x409FD24F#32
  | 68 => 0x3F3D1015#32
  | 69 => 0x409A58D0#32
  | 70 => 0x3F573580#32
  | 71 => 0xBE9B5838#32
  | 72 => 0x3F9C953A#32
  | 73 => 0x3F1C7B3C#32
  | 74 => 0x3E64346B#32
  | 75 => 0xBD7BDD3F#32
  | 76 => 0x3F8B5866#32
  | 77 => 0x3F4FCDC7#32
  | 78 => 0x403DAE34#32
  | 79 => 0xBF4CED0D#32
  | 80 => 0x405A681F#32
  | 81 => 0xBFEDFB80#32
  | 82 => 0x3DC94DC9#32
  | 83 => 0x40432A98#32
  | 84 => 0xBF6AF100#32
  | 85 => 0xBDBBE1DA#32
  | 86 => 0x4027342E#32
  | 87 => 0xBF22A4F0#32
  | 88 => 0x3FA92E55#32
  | 89 => 0xBEB2EC3F#32
  | 90 => 0xBF838581#32
  | 91 => 0xBF568FDE#32
  | 92 => 0xBD89D862#32
  | 93 => 0x3F005DB9#32
  | 94 => 0x3EDCC95C#32
  | 95 => 0x3F6A0B1E#32
  | 96 => 0x3DF47C50#32
  | 97 => 0xBF85D0A2#32
  | 98 => 0x3D3340BF#32
  | 99 => 0x40191694#32
  | 100 => 0xBF4161BE#32
  | 101 => 0xBF55E12F#32
  | 102 => 0x3F89763E#32
  | 103 => 0x400D240B#32
  | 104 => 0x3F92DCCA#32
  | 105 => 0x4020E33B#32
  | 106 => 0x3FAD6BB8#32
  | 107 => 0x3FD7AC32#32
  | 108 => 0x4054D290#32
  | 109 => 0x3F72D701#32
  | 110 => 0xBF93FBD3#32
  | 111 => 0xBE1C414B#32
  | 112 => 0x3F14A116#32
  | 113 => 0x3FFADE48#32
  | 114 => 0xBF69148E#32
  | 115 => 0x4027CD1D#32
  | 116 => 0x3ED9F8B5#32
  | 117 => 0x3CCED1E3#32
  | 118 => 0xBE8A956C#32
  | 119 => 0x3F6FA653#32
  | 120 => 0x4018E995#32
  | 121 => 0x3EA22AD8#32
  | 122 => 0xBF91BD59#32
  | 123 => 0xBF28F21B#32
  | 124 => 0xBE99C593#32
  | 125 => 0x3DE7CBCF#32
  | 126 => 0xBE319D85#32
  | 127 => 0xBF12BF3A#32
  | _ => 0#32

noncomputable abbrev lit0t0_70 (i : Nat) : BitVec 32 := match i % 128 with
  | 0 => 0x3E1F06F5#32
  | 1 => 0x3FB1C682#32
  | 2 => 0x40092458#32
  | 3 => 0x3FF0AC12#32
  | 4 => 0x3FF91FD4#32
  | 5 => 0x3EFBEE72#32
  | 6 => 0x40748397#32
  | 7 => 0x4050D5F5#32
  | 8 => 0xBF0D5C14#32
  | 9 => 0x3F6D9437#32
  | 10 => 0x3FDA3149#32
  | 11 => 0x3FEF35ED#32
  | 12 => 0xBE821F83#32
  | 13 => 0x3F093CCB#32
  | 14 => 0x3F84A367#32
  | 15 => 0x40002294#32
  | 16 => 0xBEDE5C5A#32
  | 17 => 0x3CE4BFCA#32
  | 18 => 0x3E08E642#32
  | 19 => 0x3F5DF137#32
  | 20 => 0x40153485#32
  | 21 => 0x3E1EFB89#32
  | 22 => 0xBE10FACA#32
  | 23 => 0x3D885B77#32
  | 24 => 0x3D87B237#32
  | 25 => 0xBEFC1F54#32
  | 26 => 0x3FAF397A#32
  | 27 => 0x3FDEBB86#32
  | 28 => 0xBF8F39F1#32
  | 29 => 0xBFBB3E0F#32
  | 30 => 0x405FF23D#32
  | 31 => 0xBE25E893#32
  | 32 => 0x4007DDFB#32
  | 33 => 0x3F2C1BC2#32
  | 34 => 0x401ACDC3#32
  | 35 => 0xBE902D6C#32
  | 36 => 0x3EC72FCF#32
  | 37 => 0xBFDFB956#32
  | 38 => 0x3FFE70FA#32
  | 39 => 0x3F4DB7CA#32
  | 40 => 0x3FA64BBC#32
  | 41 => 0x3F05D3E6#32
  | 42 => 0x40AEA5D0#32
  | 43 => 0x3E390A77#32
  | 44 => 0x3F4F50E8#32
  | 45 => 0x3DFC0D78#32
  | 46 => 0x3EDED6F8#32
  | 47 => 0xBD1F331F#32
  | 48 => 0x3E6D2BC2#32
  | 49 => 0x3E763BAA#32
  | 50 => 0x3EA45144#32
  | 51 => 0x402BFFF5#32
  | 52 => 0x40908107#32
  | 53 => 0x3FC31C79#32
  | 54 => 0xBF411EEB#32
  | 55 => 0x4002CFA8#32
  | 56 => 0xBFAC2DC4#32
  | 57 => 0xBF509820#32
  | 58 => 0xBF7E3F72#32
  | 59 => 0xBFAE77A7#32
  | 60 => 0x40180FC3#32
  | 61 => 0xBF97D746#32
  | 62 => 0xBB423245#32
  | 63 => 0x3E10FD24#32
  | 64 => 0x3FB1C5DE#32
  | 65 => 0x3BCD116E#32
  | 66 => 0x404F2FF3#32
  | 67 => 0xBE229916#32
  | 68 => 0x3FB1B333#32
  | 69 => 0x3FCA8AE3#32
  | 70 => 0x3F682C15#32
  | 71 => 0x3F8F85F0#32
  | 72 => 0x4044DD91#32
  | 73 => 0x4032F8EA#32
  | 74 => 0x3E404457#32
  | 75 => 0x400FD6AE#32
  | 76 => 0x3F9F3AAB#32
  | 77 => 0xBF0B99D2#32
  | 78 => 0xBEFEA522#32
  | 79 => 0x3CB311A5#32
  | 80 => 0x3E4FED8F#32
  | 81 => 0x3FDD1BD1#32
  | 82 => 0x40660313#32
  | 83 => 0xBF4CE242#32
  | 84 => 0xBDDC126F#32
  | 85 => 0x3EF07F08#32
  | 86 => 0xBEA84C7D#32
  | 87 => 0x3FA2D0A4#32
  | 88 => 0xBF43E0A6#32
  | 89 => 0xBF42AD02#32
  | 90 => 0xBEE33D72#32
  | 91 => 0xBF5E9705#32
  | 92 => 0xBF91FF8C#32
  | 93 => 0xBF021073#32
  | 94 => 0xBFA9A983#32
  | 95 => 0xBF4995DA#32
  | 96 => 0x3FC217EA#32
  | 97 => 0xBEBA82A6#32
  | 98 => 0x3E1E295D#32
  | 99 => 0x3F099979#32
  | 100 => 0xBE38ECF2#32
  | 101 => 0x3E482004#32
  | 102 => 0xBFCD96B4#32
  | 103 => 0x4024D1BA#32
  | 104 => 0xBE1FB1D9#32
  | 105 => 0x3FD5F8A2#32
  | 106 => 0x3F11DF9A#32
  | 107 => 0x401A71FB#32
  | 108 => 0xBD811BFE#32
  | 109 => 0x3F17813B#32
  | 110 => 0x3FF1FFA2#32
  | 111 => 0x3F93BCF9#32
  | 112 => 0x4002A62E#32
  | 113 => 0xBCFC564D#32
  | 114 => 0xBE4483D1#32
  | 115 => 0x3FF70DF5#32
  | 116 => 0x4045DA5A#32
  | 117 => 0xBF6ABD37#32
  | 118 => 0x3F3322CD#32
  | 119 => 0x40206034#32
  | 120 => 0x3EA57B5D#32
  | 121 => 0x3E9306FB#32
  | 122 => 0x3F033BCA#32
  | 123 => 0x3F15E056#32
  | 124 => 0x3F77AC84#32
  | 125 => 0x3FD02161#32
  | 126 => 0x4007B2C0#32
  | 127 => 0xBF95216C#32
  | _ => 0#32

noncomputable abbrev lit0t0_71 (i : Nat) : BitVec 32 := match i % 128 with
  | 0 => 0x3F0AE738#32
  | 1 => 0x3E298B1F#32
  | 2 => 0xBF0B2440#32
  | 3 => 0xBF19453A#32
  | 4 => 0x3F1A5604#32
  | 5 => 0x3F42DD32#32
  | 6 => 0xB9994A43#32
  | 7 => 0x3EC7FD6A#32
  | 8 => 0x3D4E89E1#32
  | 9 => 0xBD43A255#32
  | 10 => 0x3DB2F927#32
  | 11 => 0xBE69D402#32
  | 12 => 0x3F71EF22#32
  | 13 => 0x404EB08E#32
  | 14 => 0x3F62299C#32
  | 15 => 0xBFACEC55#32
  | 16 => 0xBC7D9116#32
  | 17 => 0x4003327A#32
  | 18 => 0x3FAD3B70#32
  | 19 => 0xBF04E93B#32
  | 20 => 0xBF2D37ED#32
  | 21 => 0x404A6935#32
  | 22 => 0x3EABE5FB#32
  | 23 => 0xBF67ED46#32
  | 24 => 0x3E0930CD#32
  | 25 => 0xBE9455DB#32
  | 26 => 0xBF7B38EC#32
  | 27 => 0x3F30049D#32
  | 28 => 0x3F7EB177#32
  | 29 => 0xBF7C2678#32
  | 30 => 0x3C04ACA6#32
  | 31 => 0xBD1E0F64#32
  | 32 => 0x3EC51CE0#32
  | 33 => 0x3FC93094#32
  | 34 => 0x3F37BDBA#32
  | 35 => 0xBFE6DB02#32
  | 36 => 0x3FDF45EC#32
  | 37 => 0x3F268D42#32
  | 38 => 0xBD247149#32
  | 39 => 0x3EE1A911#32
  | 40 => 0x3F107FBC#32
  | 41 => 0xBFC7AD88#32
  | 42 => 0xBF89C6BA#32
  | 43 => 0x3FD9ECC1#32
  | 44 => 0x3F2E4CD8#32
  | 45 => 0xBF5CEA19#32
  | 46 => 0x3FA4A57E#32
  | 47 => 0xBE777162#32
  | 48 => 0xBCD5BDEA#32
  | 49 => 0xBC7226A2#32
  | 50 => 0x3E7DDB79#32
  | 51 => 0x3F70857D#32
  | 52 => 0xBDE52641#32
  | 53 => 0xBF5A26EA#32
  | 54 => 0xBE78A680#32
  | 55 => 0xBF51566D#32
  | 56 => 0x408D6A46#32
  | 57 => 0x3F56054B#32
  | 58 => 0x3F48A7BF#32
  | 59 => 0xBEF579CA#32
  | 60 => 0x3F0EEFB3#32
  | 61 => 0xBF4E00A8#32
  | 62 => 0x3F8BB918#32
  | 63 => 0x3F46CF61#32
  | 64 => 0x3FD4B570#32
  | 65 => 0x3F96F077#32
  | 66 => 0x3FDDB58E#32
  | 67 => 0x3F22DFAF#32
  | 68 => 0xBE99E2A6#32
  | 69 => 0x3F957952#32
  | 70 => 0xBF4CA15C#32
  | 71 => 0x3DB4ECAA#32
  | 72 => 0x3FEF0188#32
  | 73 => 0x3F8B40D0#32
  | 74 => 0xBFC5F67D#32
  | 75 => 0x4031501A#32
  | 76 => 0x3EAF2421#32
  | 77 => 0x3E60B4A1#32
  | 78 => 0x3E3D472C#32
  | 79 => 0x3D81E1A2#32
  | 80 => 0xBF360D34#32
  | 81 => 0x3E2863FA#32
  | 82 => 0xBFB878B5#32
  | 83 => 0xBEFA1BE0#32
  | 84 => 0xBE4FA9DF#32
  | 85 => 0x3DAD4A16#32
  | 86 => 0x3F035C4C#32
  | 87 => 0x40383142#32
  | 88 => 0xBE1CD5FC#32
  | 89 => 0x3EDBC19A#32
  | 90 => 0x3FBCE29E#32
  | 91 => 0x3F9D515C#32
  | 92 => 0xBF99A6AC#32
  | 93 => 0x3FC20CAD#32
  | 94 => 0xBF9FBA60#32
  | 95 => 0xBEDEC220#32
  | 96 => 0x3F6FF00B#32
  | 97 => 0xBFA265D8#32
  | 98 => 0xBF2489A5#32
  | 99 => 0xBDD6D93B#32
  | 100 => 0x408DFAE7#32
  | 101 => 0xBEC88C4F#32
  | 102 => 0x3E96E3C5#32
  | 103 => 0x3E807033#32
  | 104 => 0x3FDD58C4#32
  | 105 => 0x3FA3F29E#32
  | 106 => 0x3F38CC80#32
  | 107 => 0xBF0555BC#32
  | 108 => 0x3FDF88BD#32
  | 109 => 0x3DA8E477#32
  | 110 => 0x3EC3E661#32
  | 111 => 0xBF1CB82A#32
  | 112 => 0xBF011295#32
  | 113 => 0x3EA783B5#32
  | 114 => 0x4025C3EC#32
  | 115 => 0x40140EF4#32
  | 116 => 0x40016C0F#32
  | 117 => 0xB9D8049B#32
  | 118 => 0x40280B40#32
  | 119 => 0xBF0911C4#32
  | 120 => 0x3F07AEFE#32
  | 121 => 0xBFA5562F#32
  | 122 => 0x4028F2D7#32
  | 123 => 0x3FC98C20#32
  | 124 => 0x3FFA085B#32
  | 125 => 0x3F5B648A#32
  | 126 => 0x4000557F#32
  | 127 => 0x3F0C88D4#32
  | _ => 0#32

noncomputable abbrev lit0t0_72 (i : Nat) : BitVec 32 := match i % 128 with
  | 0 => 0xBF521333#32
  | 1 => 0xBED04F51#32
  | 2 => 0xBF11C4D8#32
  | 3 => 0x3FC8B7F3#32
  | 4 => 0x3EBB66E4#32
  | 5 => 0x3F255359#32
  | 6 => 0xBF47DBB1#32
  | 7 => 0x405485FE#32
  | 8 => 0x3F02D175#32
  | 9 => 0x3E5BDADC#32
  | 10 => 0x3F0B2799#32
  | 11 => 0x3FC78F8E#32
  | 12 => 0xBED4D7BF#32
  | 13 => 0x3F013D6E#32
  | 14 => 0xBF55470E#32
  | 15 => 0x3EDAD5F6#32
  | 16 => 0x3F5EC8C4#32
  | 17 => 0x3E4DC7D6#32
  | 18 => 0x3F250D76#32
  | 19 => 0x40DC9A2F#32
  | 20 => 0x3F09269A#32
  | 21 => 0x3F368F2B#32
  | 22 => 0x3F9D468E#32
  | 23 => 0xBE8AC655#32
  | 24 => 0x3FA127D8#32
  | 25 => 0xBE876E7D#32
  | 26 => 0xBF6292F4#32
  | 27 => 0xBE826F8A#32
  | 28 => 0xBDCA8198#32
  | 29 => 0xBEE36456#32
  | 30 => 0xBF9736AD#32
  | 31 => 0x3F69EFDA#32
  | 32 => 0xBC498ECF#32
  | 33 => 0x3F3FB051#32
  | 34 => 0x40DC73B7#32
  | 35 => 0x3E19064D#32
  | 36 => 0x3FAEA88D#32
  | 37 => 0xBF914EC2#32
  | 38 => 0x3F63686B#32
  | 39 => 0x3EA7CB79#32
  | 40 => 0xBE1A2DAE#32
  | 41 => 0xBF13596E#32
  | 42 => 0x40151E45#32
  | 43 => 0x3FFC0F29#32
  | 44 => 0x3F9B25BC#32
  | 45 => 0x3EB43473#32
  | 46 => 0x3EA1F1C8#32
  | 47 => 0x3FE4A21A#32
  | 48 => 0x3FB3A8C1#32
  | 49 => 0xBF739582#32
  | 50 => 0xBE82826B#32
  | 51 => 0xBF0E2DB8#32
  | 52 => 0x401ABC75#32
  | 53 => 0x3F8F4A08#32
  | 54 => 0x3FED584E#32
  | 55 => 0x3EB278C0#32
  | 56 => 0x3FB30851#32
  | 57 => 0xBE6B1EDA#32
  | 58 => 0xBD51ECA9#32
  | 59 => 0xBFBE3340#32
  | 60 => 0x3E57C492#32
  | 61 => 0x3F1A0146#32
  | 62 => 0xBE2F0FC7#32
  | 63 => 0x40515076#32
  | 64 => 0xBEA5EE9A#32
  | 65 => 0x3F38F760#32
  | 66 => 0xBF3A9BC4#32
  | 67 => 0x3FB2351C#32
  | 68 => 0x3F439684#32
  | 69 => 0x3FC5D322#32
  | 70 => 0xBE8722AE#32
  | 71 => 0x3FE219D8#32
  | 72 => 0x3FB2C082#32
  | 73 => 0xBF751818#32
  | 74 => 0x3EBBE318#32
  | 75 => 0x3F851CD6#32
  | 76 => 0xBEA7CFE2#32
  | 77 => 0x402832C6#32
  | 78 => 0x3D4BAB0E#32
  | 79 => 0x405725BD#32
  | 80 => 0xBFB9882E#32
  | 81 => 0x3DD82B1B#32
  | 82 => 0x3F0CD266#32
  | 83 => 0x3F15E90E#32
  | 84 => 0x4001469E#32
  | 85 => 0xBEF31354#32
  | 86 => 0x3F7463B4#32
  | 87 => 0x3ECD25FB#32
  | 88 => 0x3E120CDB#32
  | 89 => 0x3EBD0D85#32
  | 90 => 0x3C8511F1#32
  | 91 => 0x3FB9D888#32
  | 92 => 0x3EE392F9#32
  | 93 => 0xBF5701A0#32
  | 94 => 0xBF280D22#32
  | 95 => 0xBEDBF7BB#32
  | 96 => 0x3F54829A#32
  | 97 => 0x40078541#32
  | 98 => 0x3FF13477#32
  | 99 => 0x3E20B2BE#32
  | 100 => 0x401CD9BD#32
  | 101 => 0x3E153FA8#32
  | 102 => 0x3E8E851F#32
  | 103 => 0x3F8A2F09#32
  | 104 => 0x3F58FC72#32
  | 105 => 0x3F624FCA#32
  | 106 => 0xBE4C974C#32
  | 107 => 0xBE7E9AA7#32
  | 108 => 0x3E6E83DC#32
  | 109 => 0x3F050480#32
  | 110 => 0xBFA13063#32
  | 111 => 0x406E5F9B#32
  | 112 => 0xBF06591E#32
  | 113 => 0x4009453F#32
  | 114 => 0x40555C46#32
  | 115 => 0x3E9C15A1#32
  | 116 => 0xBF180D4D#32
  | 117 => 0xBD8A4213#32
  | 118 => 0x401E026D#32
  | 119 => 0xBE23B1BD#32
  | 120 => 0x3F0AD298#32
  | 121 => 0xBF36E3E1#32
  | 122 => 0x3F2A9478#32
  | 123 => 0x3EDEE71D#32
  | 124 => 0xBED91C03#32
  | 125 => 0xBF9AD4C3#32
  | 126 => 0xBF0F3360#32
  | 127 => 0xBF1AB625#32
  | _ => 0#32

noncomputable abbrev lit0t0_73 (i : Nat) : BitVec 32 := match i % 128 with
  | 0 => 0x3D925650#32
  | 1 => 0x3FEA5C99#32
  | 2 => 0x3F6D1DF0#32
  | 3 => 0xBF98B61F#32
  | 4 => 0xBEE0AD9F#32
  | 5 => 0xBEF7AEC0#32
  | 6 => 0x3F951759#32
  | 7 => 0x3E4655E9#32
  | 8 => 0x409EE15B#32
  | 9 => 0x3FF63BCB#32
  | 10 => 0xBECA3418#32
  | 11 => 0xBF219545#32
  | 12 => 0x3F1BFC52#32
  | 13 => 0x3FB2793D#32
  | 14 => 0x3D0B8578#32
  | 15 => 0x3FF7E0DE#32
  | 16 => 0xBE7795AD#32
  | 17 => 0x3FF4AE07#32
  | 18 => 0xBCE64BFC#32
  | 19 => 0xBF680439#32
  | 20 => 0x3DEBC6BB#32
  | 21 => 0x3FA02F99#32
  | 22 => 0x401C0EE4#32
  | 23 => 0xBEE42AC6#32
  | 24 => 0x40506AB5#32
  | 25 => 0xBF4D2272#32
  | 26 => 0x3F30146B#32
  | 27 => 0x3DA2537B#32
  | 28 => 0x3FA6E3F0#32
  | 29 => 0x3E858408#32
  | 30 => 0x3F55C09C#32
  | 31 => 0xBF3FE04C#32
  | 32 => 0xBE9650FC#32
  | 33 => 0xBEFFEB0D#32
  | 34 => 0x3F4EBE32#32
  | 35 => 0x3F726A7C#32
  | 36 => 0x3BA7ECF7#32
  | 37 => 0x3F972C85#32
  | 38 => 0x40558EDD#32
  | 39 => 0x3DEF6A83#32
  | 40 => 0x3F0B8978#32
  | 41 => 0x3F962D56#32
  | 42 => 0x406F9FFA#32
  | 43 => 0x3FE93E6D#32
  | 44 => 0x40366341#32
  | 45 => 0xBF58FEF4#32
  | 46 => 0xBEDB3646#32
  | 47 => 0x3FC04985#32
  | 48 => 0x3E30083A#32
  | 49 => 0x3D2CAD98#32
  | 50 => 0x3EBDAD98#32
  | 51 => 0x3E11719E#32
  | 52 => 0xBF806662#32
  | 53 => 0x4055D5C6#32
  | 54 => 0xBF46C310#32
  | 55 => 0x3FD41F86#32
  | 56 => 0x3F05D68C#32
  | 57 => 0x3E2E561F#32
  | 58 => 0x3F1E087B#32
  | 59 => 0x3EA49476#32
  | 60 => 0xBF907842#32
  | 61 => 0x3ECE30BF#32
  | 62 => 0xBBC60C7A#32
  | 63 => 0x3DA927CD#32
  | 64 => 0x3F2E7739#32
  | 65 => 0x40583CA5#32
  | 66 => 0xBD887EE0#32
  | 67 => 0xBF6B9EAE#32
  | 68 => 0x3CFECE8A#32
  | 69 => 0xBF19E937#32
  | 70 => 0xBF84215A#32
  | 71 => 0xBEF9C8C6#32
  | 72 => 0x3DF48876#32
  | 73 => 0xBDBB0D3B#32
  | 74 => 0x3FFFC8E0#32
  | 75 => 0x3E4E30C0#32
  | 76 => 0x40012E3E#32
  | 77 => 0xBE8921EA#32
  | 78 => 0x3FA9B99F#32
  | 79 => 0x3EED242C#32
  | 80 => 0xBEACABDB#32
  | 81 => 0x3C2BB407#32
  | 82 => 0x3F24785D#32
  | 83 => 0xBEF56E80#32
  | 84 => 0x3DBBF082#32
  | 85 => 0xBF17F43C#32
  | 86 => 0x3FACA20C#32
  | 87 => 0x3F224CD5#32
  | 88 => 0x3FB38010#32
  | 89 => 0xBF273753#32
  | 90 => 0xBF25007D#32
  | 91 => 0x3F5771B6#32
  | 92 => 0xBEED9460#32
  | 93 => 0x403B3197#32
  | 94 => 0xBF141672#32
  | 95 => 0xBF067508#32
  | 96 => 0x40164255#32
  | 97 => 0xBF2ABDFE#32
  | 98 => 0x3F73BFCB#32
  | 99 => 0xBF56CEE1#32
  | 100 => 0x3F2E4970#32
  | 101 => 0xBF990203#32
  | 102 => 0x3F8E28C3#32
  | 103 => 0xBF2A48C9#32
  | 104 => 0x3E04494A#32
  | 105 => 0xBF427E61#32
  | 106 => 0x3FE9A559#32
  | 107 => 0x3FCA21BA#32
  | 108 => 0x3F5BD856#32
  | 109 => 0x3E9790A2#32
  | 110 => 0xBF045577#32
  | 111 => 0xBD667869#32
  | 112 => 0xBF8C2FFC#32
  | 113 => 0x3E998204#32
  | 114 => 0x3FC65003#32
  | 115 => 0x3CEAFF6F#32
  | 116 => 0xBF587190#32
  | 117 => 0x3ECA9233#32
  | 118 => 0xBF28CED6#32
  | 119 => 0x3F19756A#32
  | 120 => 0xBEBC11AA#32
  | 121 => 0x4016C5BC#32
  | 122 => 0xBEC7A4EE#32
  | 123 => 0x3E509B34#32
  | 124 => 0xBE6B68FC#32
  | 125 => 0x3F0AA397#32
  | 126 => 0x3E66DD99#32
  | 127 => 0x409B6682#32
  | _ => 0#32

noncomputable abbrev lit0t0_74 (i : Nat) : BitVec 32 := match i % 128 with
  | 0 => 0x3FAE569D#32
  | 1 => 0xBEB3CC47#32
  | 2 => 0xBF664178#32
  | 3 => 0xBECDE97D#32
  | 4 => 0xBF559FFE#32
  | 5 => 0x3F91E5FC#32
  | 6 => 0x3FE57F90#32
  | 7 => 0xBEB2BBBE#32
  | 8 => 0x3E86CBD0#32
  | 9 => 0x407A9BD4#32
  | 10 => 0xBF5823D1#32
  | 11 => 0x3FCB1EE8#32
  | 12 => 0x40090D80#32
  | 13 => 0x3D60DCE5#32
  | 14 => 0xBE137AE1#32
  | 15 => 0x3F7E1A78#32
  | 16 => 0xBF968DD8#32
  | 17 => 0x3F52A9FA#32
  | 18 => 0xBF934741#32
  | 19 => 0xBF92CB73#32
  | 20 => 0xBF2EACD6#32
  | 21 => 0xBEA69161#32
  | 22 => 0x3FF8A744#32
  | 23 => 0x3FDB1B33#32
  | 24 => 0x3FE98635#32
  | 25 => 0x3F106077#32
  | 26 => 0x3F9BBE5A#32
  | 27 => 0x401C0AFC#32
  | 28 => 0xBD256B44#32
  | 29 => 0x3ED2D7E0#32
  | 30 => 0x3E87F33B#32
  | 31 => 0x3F336E1D#32
  | 32 => 0x3EF161FA#32
  | 33 => 0xBF41AA43#32
  | 34 => 0x3E274C49#32
  | 35 => 0x3FDDC802#32
  | 36 => 0x3CB61CA2#32
  | 37 => 0x3F5DBC4E#32
  | 38 => 0x3FEE93CD#32
  | 39 => 0xBDB784A3#32
  | 40 => 0x3F240E52#32
  | 41 => 0x3C709F20#32
  | 42 => 0x3ECFC04D#32
  | 43 => 0x3E1934A9#32
  | 44 => 0xBF0A9F02#32
  | 45 => 0xBF08CC28#32
  | 46 => 0x401A037F#32
  | 47 => 0x3F765DEB#32
  | 48 => 0x3F2082A2#32
  | 49 => 0xBF01B469#32
  | 50 => 0x3E7E1C4E#32
  | 51 => 0x3FF1F220#32
  | 52 => 0xBF9A6B4F#32
  | 53 => 0x3F359A38#32
  | 54 => 0xBF24FC30#32
  | 55 => 0x3EF18CB2#32
  | 56 => 0x3E7B87CE#32
  | 57 => 0xBDAF9B02#32
  | 58 => 0xBB2AF6DC#32
  | 59 => 0xBF41B41E#32
  | 60 => 0x3DCA5CD9#32
  | 61 => 0x3EA1B849#32
  | 62 => 0x3F6DB806#32
  | 63 => 0x3FB1FE40#32
  | 64 => 0x3E03BD79#32
  | 65 => 0xC01AA761#32
  | 66 => 0xBFF5D734#32
  | 67 => 0x400E27B2#32
  | 68 => 0x3F82E6FE#32
  | 69 => 0xBDCA7E89#32
  | 70 => 0xBFA96B06#32
  | 71 => 0xBEE4E45E#32
  | 72 => 0xBF7C22DC#32
  | 73 => 0x3EF1DAFC#32
  | 74 => 0x3F6183F8#32
  | 75 => 0x3F3F627D#32
  | 76 => 0x3F84192C#32
  | 77 => 0x3F170F1A#32
  | 78 => 0x3EB7A2E8#32
  | 79 => 0x3D8C5767#32
  | 80 => 0xBF64E2AA#32
  | 81 => 0xBDAB44C1#32
  | 82 => 0x3E924A3B#32
  | 83 => 0x401A827A#32
  | 84 => 0xBFAC9914#32
  | 85 => 0xBF9B158E#32
  | 86 => 0x3EAD892F#32
  | 87 => 0x3CC24F6F#32
  | 88 => 0x3F322DCD#32
  | 89 => 0x3F0F873E#32
  | 90 => 0x3DE8955A#32
  | 91 => 0x3E1D817E#32
  | 92 => 0xBF29619B#32
  | 93 => 0xBF3F472A#32
  | 94 => 0xBE58B369#32
  | 95 => 0x400C5B2B#32
  | 96 => 0x3F12EDCA#32
  | 97 => 0xBDA5FD79#32
  | 98 => 0x3FCB610E#32
  | 99 => 0x3D1EFA2F#32
  | 100 => 0x3F5B0212#32
  | 101 => 0x3EC7AC02#32
  | 102 => 0x3F7F1976#32
  | 103 => 0x3EBC931F#32
  | 104 => 0x3FCB4E98#32
  | 105 => 0xBF4394C4#32
  | 106 => 0xBE4D0104#32
  | 107 => 0xBF3C5520#32
  | 108 => 0xBF3CB55C#32
  | 109 => 0x4004F45B#32
  | 110 => 0xBF759C3A#32
  | 111 => 0x3F599AE8#32
  | 112 => 0x402F6EBB#32
  | 113 => 0xBFA5C726#32
  | 114 => 0xBEA451ED#32
  | 115 => 0x3FDA9242#32
  | 116 => 0x3F213E84#32
  | 117 => 0x40932B1C#32
  | 118 => 0x4056198A#32
  | 119 => 0xBF80BDB9#32
  | 120 => 0xBEB97EBA#32
  | 121 => 0x3FF20A78#32
  | 122 => 0x3FC61215#32
  | 123 => 0xBFBEA65A#32
  | 124 => 0x3FD0F0AB#32
  | 125 => 0xBF9DC68D#32
  | 126 => 0xBE95C7F2#32
  | 127 => 0x400E6D71#32
  | _ => 0#32

noncomputable abbrev lit0t0_75 (i : Nat) : BitVec 32 := match i % 128 with
  | 0 => 0xBDECBC09#32
  | 1 => 0x3F87DD3E#32
  | 2 => 0x3F6D9645#32
  | 3 => 0x3EC5718B#32
  | 4 => 0x3E568E21#32
  | 5 => 0xBEDC2659#32
  | 6 => 0xBF082568#32
  | 7 => 0x40044FD8#32
  | 8 => 0x3E7D1451#32
  | 9 => 0xBFCFE033#32
  | 10 => 0x3FB6462D#32
  | 11 => 0xBF9E53AF#32
  | 12 => 0x3E5FB5E1#32
  | 13 => 0x3F0DDFFC#32
  | 14 => 0x3EB87E47#32
  | 15 => 0xBEB49724#32
  | 16 => 0x400DA057#32
  | 17 => 0xBF95A047#32
  | 18 => 0xBF3B044F#32
  | 19 => 0xBF3AE61A#32
  | 20 => 0xBDF8889C#32
  | 21 => 0x403C878A#32
  | 22 => 0x3DD227D2#32
  | 23 => 0x4038BD8F#32
  | 24 => 0x3F72E46E#32
  | 25 => 0x4061A0A2#32
  | 26 => 0xBEB438A9#32
  | 27 => 0xBFDA7AEA#32
  | 28 => 0xBEBA8F7A#32
  | 29 => 0x3E541FE8#32
  | 30 => 0x3EB98F5E#32
  | 31 => 0xBF9ED549#32
  | 32 => 0x3FE7ECE8#32
  | 33 => 0x3E90586B#32
  | 34 => 0x4022CCD2#32
  | 35 => 0x3F4C26CD#32
  | 36 => 0x3FAD41E0#32
  | 37 => 0x40324ED6#32
  | 38 => 0x3F2C6674#32
  | 39 => 0x3E107311#32
  | 40 => 0xBEF75BF2#32
  | 41 => 0xBF0B96B1#32
  | 42 => 0x3FAEE9F5#32
  | 43 => 0x4053C429#32
  | 44 => 0x3FC55CE3#32
  | 45 => 0x3FE661A0#32
  | 46 => 0x3E116F22#32
  | 47 => 0xBEA8207D#32
  | 48 => 0x3F2C2473#32
  | 49 => 0x3E46E372#32
  | 50 => 0x3E24523D#32
  | 51 => 0x401A7936#32
  | 52 => 0xBE26A80F#32
  | 53 => 0x3F428B7E#32
  | 54 => 0x3F26A52F#32
  | 55 => 0x403FDB77#32
  | 56 => 0x3FD4B556#32
  | 57 => 0x3E23E900#32
  | 58 => 0xBDBD37A3#32
  | 59 => 0xBEE6B91A#32
  | 60 => 0x3EDEF679#32
  | 61 => 0x3ECDD8EB#32
  | 62 => 0x3F59F726#32
  | 63 => 0x3F4ABF14#32
  | 64 => 0xBF34D4A9#32
  | 65 => 0xBED6D3A5#32
  | 66 => 0xBD9BE2FD#32
  | 67 => 0xBF9B1EFE#32
  | 68 => 0x3EABA8D3#32
  | 69 => 0xBF6C4697#32
  | 70 => 0x3E35B13B#32
  | 71 => 0x3FB70F7A#32
  | 72 => 0x3D95CE8C#32
  | 73 => 0x3FCB859D#32
  | 74 => 0xBDA3D45B#32
  | 75 => 0x3F14FA8A#32
  | 76 => 0x3F58A1BD#32
  | 77 => 0x3F19BD33#32
  | 78 => 0xBE102028#32
  | 79 => 0xBF55637E#32
  | 80 => 0xBF50443D#32
  | 81 => 0xBF4674A3#32
  | 82 => 0x3FB422EB#32
  | 83 => 0x4023EC5B#32
  | 84 => 0x3FE5EF79#32
  | 85 => 0x3EDF5EAB#32
  | 86 => 0x3F9AB350#32
  | 87 => 0xBDDE9AEC#32
  | 88 => 0xBE8869FA#32
  | 89 => 0xBCB021C8#32
  | 90 => 0xBDD7F3A8#32
  | 91 => 0x3EC11994#32
  | 92 => 0x3FE265E2#32
  | 93 => 0x3F1C3F1B#32
  | 94 => 0xBF2BCB55#32
  | 95 => 0x3D589094#32
  | 96 => 0xBECB5C0D#32
  | 97 => 0x3FA39450#32
  | 98 => 0x3F3E0ECC#32
  | 99 => 0xBEFFB41A#32
  | 100 => 0x3FA08A38#32
  | 101 => 0xBDA87829#32
  | 102 => 0x3F9405FB#32
  | 103 => 0x402AD42A#32
  | 104 => 0xBCF00D40#32
  | 105 => 0x40673C6B#32
  | 106 => 0x3F62CA84#32
  | 107 => 0x3FDED14F#32
  | 108 => 0x3FF50083#32
  | 109 => 0x402DF50C#32
  | 110 => 0xBEF7F06A#32
  | 111 => 0xBF3C079A#32
  | 112 => 0x3FD106BE#32
  | 113 => 0x3F971E9D#32
  | 114 => 0x3FA35D58#32
  | 115 => 0x4014A8F2#32
  | 116 => 0x3F38A891#32
  | 117 => 0xBEB76179#32
  | 118 => 0x3F841329#32
  | 119 => 0xBECEA0E6#32
  | 120 => 0xBF327E83#32
  | 121 => 0xBE01BFB3#32
  | 122 => 0x3F233913#32
  | 123 => 0x3FBDD7D6#32
  | 124 => 0xBD19601C#32
  | 125 => 0xBED11741#32
  | 126 => 0x3E064DDB#32
  | 127 => 0x3ED76CBC#32
  | _ => 0#32

noncomputable abbrev lit0t0_76 (i : Nat) : BitVec 32 := match i % 128 with
  | 0 => 0x3F42E9DF#32
  | 1 => 0x3E28B1AD#32
  | 2 => 0x400D12A9#32
  | 3 => 0xBF388C64#32
  | 4 => 0xBFBA534F#32
  | 5 => 0xBF077E48#32
  | 6 => 0x3FE9068B#32
  | 7 => 0x4064B4DF#32
  | 8 => 0x4101996A#32
  | 9 => 0x4042E408#32
  | 10 => 0x3FE610D0#32
  | 11 => 0x3FD8F72C#32
  | 12 => 0x3FBD73C1#32
  | 13 => 0xBE9668C8#32
  | 14 => 0xBEE0E936#32
  | 15 => 0xBFA01477#32
  | 16 => 0xBF26131A#32
  | 17 => 0xBD20884B#32
  | 18 => 0xBF5B3628#32
  | 19 => 0xBD8C2E44#32
  | 20 => 0x400B8AEE#32
  | 21 => 0xBF59435D#32
  | 22 => 0x3F72E272#32
  | 23 => 0x3FA22E93#32
  | 24 => 0x3F8D483F#32
  | 25 => 0xBFDF7B0E#32
  | 26 => 0xBF64A2F9#32
  | 27 => 0x3FB9CB86#32
  | 28 => 0x3FDFB27D#32
  | 29 => 0xBEA978CE#32
  | 30 => 0x400E327F#32
  | 31 => 0xBECCC916#32
  | 32 => 0x3D7D8018#32
  | 33 => 0x3F65771D#32
  | 34 => 0x3FB677DF#32
  | 35 => 0x4015D903#32
  | 36 => 0x3E6E78D1#32
  | 37 => 0x3E2683EF#32
  | 38 => 0x3F026064#32
  | 39 => 0x3E722284#32
  | 40 => 0x3E25D2C0#32
  | 41 => 0x3E9BB31E#32
  | 42 => 0x3E4DD2BE#32
  | 43 => 0x3FCE276E#32
  | 44 => 0x3F1BA7D5#32
  | 45 => 0x3D841C13#32
  | 46 => 0xBE4D032A#32
  | 47 => 0x4009A3C2#32
  | 48 => 0x3FAC9ACA#32
  | 49 => 0x3D7CD170#32
  | 50 => 0x3F2E6B92#32
  | 51 => 0xBE66CEE0#32
  | 52 => 0xBF1C687B#32
  | 53 => 0xBF4446CD#32
  | 54 => 0x3DCFF923#32
  | 55 => 0xBF9B8764#32
  | 56 => 0x3E304929#32
  | 57 => 0xBF811CCF#32
  | 58 => 0x402F3DAC#32
  | 59 => 0x3F30E865#32
  | 60 => 0x3E8C6F3B#32
  | 61 => 0xBF0FBADF#32
  | 62 => 0x3E3B2347#32
  | 63 => 0x3F0B62CA#32
  | 64 => 0xBF4005DF#32
  | 65 => 0x3F8BBECC#32
  | 66 => 0x3F6EB668#32
  | 67 => 0x40108C99#32
  | 68 => 0xBF136551#32
  | 69 => 0xBEE5377A#32
  | 70 => 0x3F85E64F#32
  | 71 => 0x3EF2E458#32
  | 72 => 0x3F76B0A2#32
  | 73 => 0x3FB93CC2#32
  | 74 => 0x3F8234FB#32
  | 75 => 0xBDA3FC38#32
  | 76 => 0x3F144A8C#32
  | 77 => 0xBE78A6DE#32
  | 78 => 0x40070321#32
  | 79 => 0xBF22E16B#32
  | 80 => 0xBD14B1DF#32
  | 81 => 0x3E2E4E37#32
  | 82 => 0x405EB7DE#32
  | 83 => 0x3E094D3E#32
  | 84 => 0x3F9345EB#32
  | 85 => 0x3F216F71#32
  | 86 => 0xBE8C9B5D#32
  | 87 => 0x3FDB31AD#32
  | 88 => 0xBF171C15#32
  | 89 => 0x3FF5E7E4#32
  | 90 => 0x4046B94D#32
  | 91 => 0xBF898D46#32
  | 92 => 0xBF51830A#32
  | 93 => 0xBF571BEC#32
  | 94 => 0x3E90AE4E#32
  | 95 => 0xBF0B6739#32
  | 96 => 0x4060A5C4#32
  | 97 => 0x3F874235#32
  | 98 => 0x3E687F29#32
  | 99 => 0x3F9444E1#32
  | 100 => 0xBEBA46AC#32
  | 101 => 0x3F0F8A07#32
  | 102 => 0xBE75B7D3#32
  | 103 => 0x3FB3A7FC#32
  | 104 => 0x3FE2D8DE#32
  | 105 => 0xBE46B33E#32
  | 106 => 0xBF72CBCD#32
  | 107 => 0x3FC902F9#32
  | 108 => 0x3FA61428#32
  | 109 => 0xBF20DF34#32
  | 110 => 0x3FFC5C80#32
  | 111 => 0x3FA9EA56#32
  | 112 => 0x3DEB19DD#32
  | 113 => 0xBF9399A6#32
  | 114 => 0xBF195171#32
  | 115 => 0xBEAD7E2B#32
  | 116 => 0x3F86B957#32
  | 117 => 0x3FDEC3C6#32
  | 118 => 0xBF07545F#32
  | 119 => 0xBFD546ED#32
  | 120 => 0xBF7430CE#32
  | 121 => 0x3D6606FF#32
  | 122 => 0x3F949C75#32
  | 123 => 0xBD9E0C4B#32
  | 124 => 0x3C8901EC#32
  | 125 => 0x3F27F2D7#32
  | 126 => 0x3F69E9A0#32
  | 127 => 0xBD9D0EDE#32
  | _ => 0#32

noncomputable abbrev lit0t0_77 (i : Nat) : BitVec 32 := match i % 128 with
  | 0 => 0x400F8806#32
  | 1 => 0x3FA15F32#32
  | 2 => 0x3FB96742#32
  | 3 => 0x408C7AAF#32
  | 4 => 0xBF9ABA20#32
  | 5 => 0x3F6D5128#32
  | 6 => 0x3EAA5491#32
  | 7 => 0x3FF0933B#32
  | 8 => 0x3FF0ECF6#32
  | 9 => 0x3F1878E5#32
  | 10 => 0x3FE36AFF#32
  | 11 => 0xBFB8E2C2#32
  | 12 => 0x3FD4FAD8#32
  | 13 => 0x40963AD4#32
  | 14 => 0x3E8D01A4#32
  | 15 => 0xBEC5C792#32
  | 16 => 0x3E41CF71#32
  | 17 => 0x3FE6DC05#32
  | 18 => 0xBE89DC61#32
  | 19 => 0xBDCA7DDB#32
  | 20 => 0x3EE69632#32
  | 21 => 0xBEA437E1#32
  | 22 => 0x3EC5176F#32
  | 23 => 0xBF3A349B#32
  | 24 => 0x3FAFE72C#32
  | 25 => 0x3FB08377#32
  | 26 => 0x3F25A4C8#32
  | 27 => 0x4034AE7E#32
  | 28 => 0xBF7E2528#32
  | 29 => 0x4007E41B#32
  | 30 => 0x40753E17#32
  | 31 => 0x3F1A9A03#32
  | 32 => 0x3E827A4E#32
  | 33 => 0xBF7BA8BE#32
  | 34 => 0x3F2AB5B3#32
  | 35 => 0x3FC1AF3C#32
  | 36 => 0xBF99F221#32
  | 37 => 0xBF3366D1#32
  | 38 => 0x3FAF521A#32
  | 39 => 0x3F885E2D#32
  | 40 => 0xBF14440B#32
  | 41 => 0x40018A6B#32
  | 42 => 0x3E3D7877#32
  | 43 => 0x3F40448E#32
  | 44 => 0x3E83EE6F#32
  | 45 => 0xBF187542#32
  | 46 => 0x3F2CBD04#32
  | 47 => 0x3EF26A33#32
  | 48 => 0xBE2D97C1#32
  | 49 => 0xBF0D000C#32
  | 50 => 0x400FB88C#32
  | 51 => 0xBCCAF40E#32
  | 52 => 0x3EBF963F#32
  | 53 => 0xBF881656#32
  | 54 => 0xBE0156AD#32
  | 55 => 0xBF0B1C95#32
  | 56 => 0xBF2756E9#32
  | 57 => 0x3F26CBC5#32
  | 58 => 0xBEC21B49#32
  | 59 => 0x3FB59E20#32
  | 60 => 0x3EB24C0B#32
  | 61 => 0x409672D9#32
  | 62 => 0xBE3279BB#32
  | 63 => 0x3E0F10EB#32
  | 64 => 0x3F6DA83C#32
  | 65 => 0x3FD1D6EA#32
  | 66 => 0xBF9C8453#32
  | 67 => 0xBF7F571D#32
  | 68 => 0xBF26BA77#32
  | 69 => 0x3E815A62#32
  | 70 => 0x3FB3B17A#32
  | 71 => 0x405DE072#32
  | 72 => 0x3D85175C#32
  | 73 => 0xBCBABB82#32
  | 74 => 0xBED601F7#32
  | 75 => 0x400FD7B5#32
  | 76 => 0x404E646E#32
  | 77 => 0x3FCCF84E#32
  | 78 => 0x3F376E31#32
  | 79 => 0x3F42505E#32
  | 80 => 0x3EA915C1#32
  | 81 => 0xBF98EF17#32
  | 82 => 0xBF8DA39B#32
  | 83 => 0x3FA7B593#32
  | 84 => 0x3F13D584#32
  | 85 => 0xBF44159F#32
  | 86 => 0x3D8BEC74#32
  | 87 => 0xBF6AB763#32
  | 88 => 0x3F1B799B#32
  | 89 => 0x3FE34967#32
  | 90 => 0xBF113EAC#32
  | 91 => 0xBF9DD410#32
  | 92 => 0x3FFE7F68#32
  | 93 => 0x3F16388E#32
  | 94 => 0xBE9D3A6F#32
  | 95 => 0x3DCAD7F1#32
  | 96 => 0xBDD63563#32
  | 97 => 0xBF8F2764#32
  | 98 => 0x409425BB#32
  | 99 => 0x3F008C86#32
  | 100 => 0xBF84CDA7#32
  | 101 => 0xBE127988#32
  | 102 => 0x4031E9DD#32
  | 103 => 0xBD264D6B#32
  | 104 => 0xBEBEBF05#32
  | 105 => 0x3F521241#32
  | 106 => 0xBEB4826B#32
  | 107 => 0xBEA811F6#32
  | 108 => 0xBE5EDE8A#32
  | 109 => 0x3FC9C6B5#32
  | 110 => 0xBC942114#32
  | 111 => 0x3ED2CF6C#32
  | 112 => 0xBF8722D0#32
  | 113 => 0x3F120F40#32
  | 114 => 0x4026A196#32
  | 115 => 0xBF3A643A#32
  | 116 => 0xBF904969#32
  | 117 => 0xBF999FC4#32
  | 118 => 0x3F9844F8#32
  | 119 => 0x3E94B528#32
  | 120 => 0x3FEE0637#32
  | 121 => 0xBF03CB88#32
  | 122 => 0x3F892846#32
  | 123 => 0xBE8D3522#32
  | 124 => 0xBEEC12E4#32
  | 125 => 0xBFDED44E#32
  | 126 => 0xBD0F963E#32
  | 127 => 0x3EC065AF#32
  | _ => 0#32

noncomputable abbrev lit0t0_78 (i : Nat) : BitVec 32 := match i % 128 with
  | 0 => 0xBFF90C81#32
  | 1 => 0x3F58E72D#32
  | 2 => 0xBEF21CA7#32
  | 3 => 0xBF781C42#32
  | 4 => 0x401DAE5A#32
  | 5 => 0xBF5F5F67#32
  | 6 => 0x3F9AD634#32
  | 7 => 0x3F526EA0#32
  | 8 => 0xBE566E37#32
  | 9 => 0x3E9C6836#32
  | 10 => 0x3FD8999D#32
  | 11 => 0x40BC4A89#32
  | 12 => 0xBF7976DF#32
  | 13 => 0xBD2D8C3A#32
  | 14 => 0xBE424B8B#32
  | 15 => 0xBDCB93A8#32
  | 16 => 0xBEDAE3EA#32
  | 17 => 0xBF64C45A#32
  | 18 => 0xBF361506#32
  | 19 => 0x3FB2F293#32
  | 20 => 0x3F5EC604#32
  | 21 => 0xBF1B1D20#32
  | 22 => 0x3F25628F#32
  | 23 => 0xBEF9B7E8#32
  | 24 => 0x3FB3E790#32
  | 25 => 0x4058D9AF#32
  | 26 => 0x3F823727#32
  | 27 => 0xBF23E3A1#32
  | 28 => 0x3F7988F4#32
  | 29 => 0xBC83740D#32
  | 30 => 0x406385B0#32
  | 31 => 0x3FF458D1#32
  | 32 => 0xBFA8214F#32
  | 33 => 0x3E0E01EB#32
  | 34 => 0x3E3F1B05#32
  | 35 => 0xBBC6A788#32
  | 36 => 0x3F595FED#32
  | 37 => 0x406E7DA8#32
  | 38 => 0x3FB5E8AB#32
  | 39 => 0x3EA55B86#32
  | 40 => 0x3F785CBB#32
  | 41 => 0x3EE61F30#32
  | 42 => 0xBF807718#32
  | 43 => 0x3E89C102#32
  | 44 => 0x4032CC23#32
  | 45 => 0xBF701EDE#32
  | 46 => 0xBEA1AE86#32
  | 47 => 0x3F5E7BA3#32
  | 48 => 0x3E88E7FE#32
  | 49 => 0x3F4EFA47#32
  | 50 => 0xBF3FE9AC#32
  | 51 => 0xBE92A7F2#32
  | 52 => 0x3F13BD6A#32
  | 53 => 0x3F0967E1#32
  | 54 => 0x3FB11C6C#32
  | 55 => 0x3FCD386C#32
  | 56 => 0x404D0AF0#32
  | 57 => 0x404DA543#32
  | 58 => 0x3F3A57A9#32
  | 59 => 0x3F103670#32
  | 60 => 0xBE79320F#32
  | 61 => 0x3F6D825F#32
  | 62 => 0x4023B041#32
  | 63 => 0x3F92C538#32
  | 64 => 0x3FFC99FA#32
  | 65 => 0xBF526C49#32
  | 66 => 0x3F1D5418#32
  | 67 => 0x3EFC1074#32
  | 68 => 0x3FC867B8#32
  | 69 => 0xBF7F159A#32
  | 70 => 0xBE351714#32
  | 71 => 0xBF580ECF#32
  | 72 => 0xBF3F490F#32
  | 73 => 0x3FA3DAAC#32
  | 74 => 0x3EA94EFC#32
  | 75 => 0xBA6A652A#32
  | 76 => 0x3FD3E76A#32
  | 77 => 0x3FC5B14A#32
  | 78 => 0x3E05FFFF#32
  | 79 => 0x3F1C0048#32
  | 80 => 0x3F7D9634#32
  | 81 => 0xBE4BBA0D#32
  | 82 => 0x3F8B0539#32
  | 83 => 0xBD4C45F1#32
  | 84 => 0x3F906E74#32
  | 85 => 0xBF869950#32
  | 86 => 0xBE28B97C#32
  | 87 => 0x3F829C35#32
  | 88 => 0x3F41A5A4#32
  | 89 => 0x402EA614#32
  | 90 => 0x4080E8FF#32
  | 91 => 0xBF084692#32
  | 92 => 0xBECFB30F#32
  | 93 => 0xBF3F33E3#32
  | 94 => 0xBD5E9B25#32
  | 95 => 0xBD213448#32
  | 96 => 0xBFA42067#32
  | 97 => 0x3C9AAC79#32
  | 98 => 0x403A7013#32
  | 99 => 0xBEF6A87E#32
  | 100 => 0x3FD10EDC#32
  | 101 => 0x3FA422B4#32
  | 102 => 0x3F95B973#32
  | 103 => 0xBF5D7C1C#32
  | 104 => 0x3FD1922F#32
  | 105 => 0x3F2D59E7#32
  | 106 => 0x3FEC74CE#32
  | 107 => 0xBD9DF72C#32
  | 108 => 0x3FA55B8A#32
  | 109 => 0x3FDE1014#32
  | 110 => 0x3F09A374#32
  | 111 => 0x3FC0B1D1#32
  | 112 => 0x3F8B17B2#32
  | 113 => 0xBF66D9C8#32
  | 114 => 0xBF5DF0D8#32
  | 115 => 0xBF7E2128#32
  | 116 => 0xBFAA5A6E#32
  | 117 => 0xBE85E773#32
  | 118 => 0x3F657CBA#32
  | 119 => 0x3F983E7F#32
  | 120 => 0xBEC74C38#32
  | 121 => 0x3EFE716C#32
  | 122 => 0xBBE29400#32
  | 123 => 0x3F6C35CC#32
  | 124 => 0xBD921FE9#32
  | 125 => 0xBF963356#32
  | 126 => 0x400681C7#32
  | 127 => 0x3F6FFFAF#32
  | _ => 0#32

noncomputable abbrev lit0t0_79 (i : Nat) : BitVec 32 := match i % 128 with
  | 0 => 0xBDC7E197#32
  | 1 => 0x3E84D869#32
  | 2 => 0x3DA86C24#32
  | 3 => 0xBE907F1E#32
  | 4 => 0x3FA71245#32
  | 5 => 0x3F0F52B2#32
  | 6 => 0x3FDE58C0#32
  | 7 => 0xBDCAD731#32
  | 8 => 0xBF768A38#32
  | 9 => 0xBE745F1D#32
  | 10 => 0xBD17C9C8#32
  | 11 => 0xBE568782#32
  | 12 => 0x3FD9D7F4#32
  | 13 => 0xBF51A28B#32
  | 14 => 0x3D99C3F1#32
  | 15 => 0xBEAF3959#32
  | 16 => 0xBF179D7E#32
  | 17 => 0xBE06FEE8#32
  | 18 => 0xBFAEDD34#32
  | 19 => 0xBD93B26A#32
  | 20 => 0x403DC586#32
  | 21 => 0xBCFCBFBF#32
  | 22 => 0x3F6F8E10#32
  | 23 => 0x4063F022#32
  | 24 => 0x3E910F0C#32
  | 25 => 0x3F12098E#32
  | 26 => 0x3FAA1A88#32
  | 27 => 0xBE1E7030#32
  | 28 => 0xBF105433#32
  | 29 => 0x3F9AD29A#32
  | 30 => 0xBE9EAAD5#32
  | 31 => 0x4025CD45#32
  | 32 => 0xBE38F0FD#32
  | 33 => 0x3D5E95A4#32
  | 34 => 0x3FD15C5B#32
  | 35 => 0x3FE2C6FA#32
  | 36 => 0xBDCF9221#32
  | 37 => 0x3FFA5EED#32
  | 38 => 0x3EBA95EA#32
  | 39 => 0x3E987031#32
  | 40 => 0x40319A54#32
  | 41 => 0x3C9F7CE0#32
  | 42 => 0x403BF4CA#32
  | 43 => 0x402F2985#32
  | 44 => 0xBF9AF39F#32
  | 45 => 0xBFF6E020#32
  | 46 => 0x3F1A042A#32
  | 47 => 0x3E0A19C6#32
  | 48 => 0xBF535C43#32
  | 49 => 0x3FA7E48E#32
  | 50 => 0x3F8D645E#32
  | 51 => 0x3F699A17#32
  | 52 => 0x3FB0D94A#32
  | 53 => 0x3CC405E1#32
  | 54 => 0x3DCD59CB#32
  | 55 => 0x3FB1A91C#32
  | 56 => 0x3F654676#32
  | 57 => 0x3F968B2E#32
  | 58 => 0x3FE61174#32
  | 59 => 0x3F57739C#32
  | 60 => 0x3F112698#32
  | 61 => 0xBED8D453#32
  | 62 => 0xBF5AE133#32
  | 63 => 0x3EBF5E12#32
  | 64 => 0x3F501F43#32
  | 65 => 0x3FFB7D98#32
  | 66 => 0xBEA39050#32
  | 67 => 0xBFB3E199#32
  | 68 => 0x3FA5CC71#32
  | 69 => 0xBF8E6969#32
  | 70 => 0x3F7685B2#32
  | 71 => 0x3F213BE4#32
  | 72 => 0x3F0CFC82#32
  | 73 => 0x3F280FAE#32
  | 74 => 0xBFD15FFB#32
  | 75 => 0x3FBB1700#32
  | 76 => 0x3FCE1F25#32
  | 77 => 0x3F1F8EDB#32
  | 78 => 0xBEA69D23#32
  | 79 => 0x4034E0B1#32
  | 80 => 0xBD689DB6#32
  | 81 => 0x3F2D1AE3#32
  | 82 => 0x3E6B1C33#32
  | 83 => 0x3F91DF8C#32
  | 84 => 0x3E8CAA68#32
  | 85 => 0x3F270499#32
  | 86 => 0xBCEE3EF2#32
  | 87 => 0x3D93DE31#32
  | 88 => 0x3F3C7F49#32
  | 89 => 0xBE60DBBD#32
  | 90 => 0x3EAB7B5A#32
  | 91 => 0x3FA7F218#32
  | 92 => 0xBF7EF1A6#32
  | 93 => 0xBF4E9F46#32
  | 94 => 0xBF0D1E60#32
  | 95 => 0x3ED1351B#32
  | 96 => 0xBE5AA84D#32
  | 97 => 0xBE771332#32
  | 98 => 0x3FDAA1AE#32
  | 99 => 0xBFB88347#32
  | 100 => 0x3E7EC356#32
  | 101 => 0x3F7D3B8D#32
  | 102 => 0x3F82E9C7#32
  | 103 => 0xBFA4A958#32
  | 104 => 0x3EFECA40#32
  | 105 => 0xBFA1EF10#32
  | 106 => 0x3F85739C#32
  | 107 => 0x3FC3799E#32
  | 108 => 0x3FE2D43D#32
  | 109 => 0x3EEFE376#32
  | 110 => 0xBFC0FB53#32
  | 111 => 0xBEE4FD86#32
  | 112 => 0xBF2BCB46#32
  | 113 => 0xBF396471#32
  | 114 => 0x3F78CD3A#32
  | 115 => 0xBEE46E83#32
  | 116 => 0xBD5C8B97#32
  | 117 => 0x3E28F80F#32
  | 118 => 0xBE5EFF24#32
  | 119 => 0xBDFD2069#32
  | 120 => 0x3EF4CB50#32
  | 121 => 0xBF8EDE45#32
  | 122 => 0xBF4116FA#32
  | 123 => 0xBF642FC4#32
  | 124 => 0x40328ABD#32
  | 125 => 0xBE8C8352#32
  | 126 => 0x3F31D599#32
  | 127 => 0x3C104D75#32
  | _ => 0#32

noncomputable abbrev lit0t0_80 (i : Nat) : BitVec 32 := match i % 128 with
  | 0 => 0x3CE8FE1B#32
  | 1 => 0x3F0B982C#32
  | 2 => 0xBD92F810#32
  | 3 => 0xBE662BF8#32
  | 4 => 0xBF233DEF#32
  | 5 => 0x401FED81#32
  | 6 => 0xBF9A212D#32
  | 7 => 0x3FBBE363#32
  | 8 => 0xBE0EB067#32
  | 9 => 0xBEF4D428#32
  | 10 => 0x40186C60#32
  | 11 => 0xBDEBC528#32
  | 12 => 0x3FB31BAE#32
  | 13 => 0xBF48700F#32
  | 14 => 0x3FBB8C21#32
  | 15 => 0x3EEB5D74#32
  | 16 => 0x3F08E2B0#32
  | 17 => 0x3EB96356#32
  | 18 => 0x3D02E565#32
  | 19 => 0x3FA9CC58#32
  | 20 => 0x3FCFE0EE#32
  | 21 => 0x40105704#32
  | 22 => 0xBE11944C#32
  | 23 => 0xBE41B70D#32
  | 24 => 0x3EE97158#32
  | 25 => 0x3F896879#32
  | 26 => 0xBE23171D#32
  | 27 => 0xBF0D0428#32
  | 28 => 0x3F28503F#32
  | 29 => 0x3E95CBE7#32
  | 30 => 0x3FB7E5F9#32
  | 31 => 0xBF0FBF51#32
  | 32 => 0xBF923CBA#32
  | 33 => 0x3F7793B8#32
  | 34 => 0x3CD4698E#32
  | 35 => 0xBF113D40#32
  | 36 => 0xBEB4499B#32
  | 37 => 0xBE2AF7A0#32
  | 38 => 0x3DFC37BE#32
  | 39 => 0xBECEA74C#32
  | 40 => 0x3F169772#32
  | 41 => 0xBEE6E7AF#32
  | 42 => 0x3F5DE41C#32
  | 43 => 0xBF62557D#32
  | 44 => 0x3FCE9499#32
  | 45 => 0x3DF84941#32
  | 46 => 0xBEE75E34#32
  | 47 => 0x3F28FD11#32
  | 48 => 0x3F1E434A#32
  | 49 => 0x3F114CC0#32
  | 50 => 0x3FC61A76#32
  | 51 => 0x3F65AD92#32
  | 52 => 0x3E64B475#32
  | 53 => 0x3F6CC010#32
  | 54 => 0xBF996BDD#32
  | 55 => 0x4052C3B5#32
  | 56 => 0xBE83CF17#32
  | 57 => 0x3F017005#32
  | 58 => 0xBF08999F#32
  | 59 => 0xBF0146E8#32
  | 60 => 0xBDEAD6B1#32
  | 61 => 0x3F9C9006#32
  | 62 => 0x3FA6D9AC#32
  | 63 => 0x40051DAC#32
  | 64 => 0x40040561#32
  | 65 => 0x3F68F1CE#32
  | 66 => 0xBF501760#32
  | 67 => 0xBF1E7444#32
  | 68 => 0x408F914E#32
  | 69 => 0xBF018832#32
  | 70 => 0x3F306324#32
  | 71 => 0x3E90981B#32
  | 72 => 0x3F1F2845#32
  | 73 => 0x4053AA94#32
  | 74 => 0x3FA5553C#32
  | 75 => 0x3F88B7CE#32
  | 76 => 0x3F3B1A5D#32
  | 77 => 0xBF4594AC#32
  | 78 => 0xBE363C9A#32
  | 79 => 0x3E838A90#32
  | 80 => 0x3F9A4110#32
  | 81 => 0x3F8873CB#32
  | 82 => 0xBF5CECA4#32
  | 83 => 0x40437587#32
  | 84 => 0x3E314DE0#32
  | 85 => 0x401EF8C0#32
  | 86 => 0x3F8AE892#32
  | 87 => 0x40412515#32
  | 88 => 0xBEAD47B9#32
  | 89 => 0x404FFA01#32
  | 90 => 0x3ECEC3A3#32
  | 91 => 0x4023E96F#32
  | 92 => 0x4028C9FA#32
  | 93 => 0x3ECF2812#32
  | 94 => 0xBE479C53#32
  | 95 => 0xBF4FB455#32
  | 96 => 0x3EED0881#32
  | 97 => 0xBFC59581#32
  | 98 => 0xBEBA1705#32
  | 99 => 0x3E8EFB96#32
  | 100 => 0xBF7DB33D#32
  | 101 => 0xBE10E213#32
  | 102 => 0xBF3FAEE8#32
  | 103 => 0x402B22CE#32
  | 104 => 0xBEC29692#32
  | 105 => 0x3DAD7FCA#32
  | 106 => 0xBE97D594#32
  | 107 => 0x408EEB73#32
  | 108 => 0x3E013627#32
  | 109 => 0x3F9D5D58#32
  | 110 => 0x40773FDE#32
  | 111 => 0xBF4AD0EA#32
  | 112 => 0x3E9634BF#32
  | 113 => 0x3EED2D72#32
  | 114 => 0x3F5C61FE#32
  | 115 => 0x400AB0D0#32
  | 116 => 0xBED8A7FD#32
  | 117 => 0x3F650646#32
  | 118 => 0xBEA45EC0#32
  | 119 => 0xBD1F72B9#32
  | 120 => 0x3E222A01#32
  | 121 => 0x3F3262A5#32
  | 122 => 0x3ED5A28F#32
  | 123 => 0xBBB7A00A#32
  | 124 => 0xBF0AD1C7#32
  | 125 => 0xBE93B0D7#32
  | 126 => 0xBE9485AE#32
  | 127 => 0x40980880#32
  | _ => 0#32

noncomputable abbrev lit0t0_81 (i : Nat) : BitVec 32 := match i % 128 with
  | 0 => 0x3FDCAF98#32
  | 1 => 0x3E65C4B4#32
  | 2 => 0xBEE4691F#32
  | 3 => 0x3F438B29#32
  | 4 => 0x3F7C120D#32
  | 5 => 0x3E82B824#32
  | 6 => 0x3E7C8D41#32
  | 7 => 0xBEB1753B#32
  | 8 => 0x3FF2B6EC#32
  | 9 => 0xBE3D1A6E#32
  | 10 => 0x3F90FE17#32
  | 11 => 0xBFAD0143#32
  | 12 => 0x4011694E#32
  | 13 => 0x3F127535#32
  | 14 => 0x3F855FF4#32
  | 15 => 0x4056103F#32
  | 16 => 0x3EFD10D8#32
  | 17 => 0x3DE354A8#32
  | 18 => 0x402266D3#32
  | 19 => 0xBF027E5A#32
  | 20 => 0x3E5E8289#32
  | 21 => 0xBEE7572C#32
  | 22 => 0x3FF86087#32
  | 23 => 0x3FC5BB1A#32
  | 24 => 0xBF1320EA#32
  | 25 => 0x3CC6EB8B#32
  | 26 => 0x402AE12F#32
  | 27 => 0x3EA6BDA6#32
  | 28 => 0xBE865B06#32
  | 29 => 0xBF0A3A73#32
  | 30 => 0x3DAE1A92#32
  | 31 => 0x3FBF5EB8#32
  | 32 => 0xBEF274DB#32
  | 33 => 0xBF32E2A4#32
  | 34 => 0x3FC5CC7D#32
  | 35 => 0x3D38F437#32
  | 36 => 0x40056503#32
  | 37 => 0xBF7751C6#32
  | 38 => 0x404CB540#32
  | 39 => 0x3E12BD4B#32
  | 40 => 0xBEA6C96F#32
  | 41 => 0xBEAC0208#32
  | 42 => 0xBE6C58DA#32
  | 43 => 0x4013253B#32
  | 44 => 0xBF226C7E#32
  | 45 => 0x3F43C744#32
  | 46 => 0xBEBBC473#32
  | 47 => 0xBEB9D490#32
  | 48 => 0xBFC3A164#32
  | 49 => 0x3FBF22BA#32
  | 50 => 0x3F9D8DD4#32
  | 51 => 0x3F376FCF#32
  | 52 => 0x3D0B5AEC#32
  | 53 => 0x3FB0B1E2#32
  | 54 => 0x3F2FA7C7#32
  | 55 => 0x3FB4695C#32
  | 56 => 0xBF0CAF89#32
  | 57 => 0xBF302B95#32
  | 58 => 0x3EB32AEF#32
  | 59 => 0x3F7C2B66#32
  | 60 => 0x3F99DA10#32
  | 61 => 0x3F20B8BD#32
  | 62 => 0x3F27176A#32
  | 63 => 0x3F676EBA#32
  | 64 => 0x404B3B88#32
  | 65 => 0xBF17FB6A#32
  | 66 => 0x3F632251#32
  | 67 => 0x3CCE7E2E#32
  | 68 => 0x3F014851#32
  | 69 => 0xBEACA953#32
  | 70 => 0xBEDDC94A#32
  | 71 => 0x3F43F505#32
  | 72 => 0x3EA776C0#32
  | 73 => 0x404CB190#32
  | 74 => 0x3FAE96EE#32
  | 75 => 0x3F6368B4#32
  | 76 => 0x3FC1FCB9#32
  | 77 => 0x3F990CBC#32
  | 78 => 0x3ECBD4F0#32
  | 79 => 0x3C850314#32
  | 80 => 0xBF6343D7#32
  | 81 => 0xBE6F1A1E#32
  | 82 => 0x402AB9A2#32
  | 83 => 0x3F4EC3F8#32
  | 84 => 0x3E04BB6C#32
  | 85 => 0xBECC6AEC#32
  | 86 => 0x4013D4DF#32
  | 87 => 0x3E414129#32
  | 88 => 0xBF9B9447#32
  | 89 => 0xBCDA843C#32
  | 90 => 0x3E6B732F#32
  | 91 => 0xBEC83CBF#32
  | 92 => 0xBEA16570#32
  | 93 => 0x3E63F308#32
  | 94 => 0x3F451AD5#32
  | 95 => 0xBB3B4570#32
  | 96 => 0x3F2D7F4C#32
  | 97 => 0x3F8839E2#32
  | 98 => 0x3FF94153#32
  | 99 => 0x3F2DD4CA#32
  | 100 => 0x3EA6B781#32
  | 101 => 0x4043691E#32
  | 102 => 0xBF0487C4#32
  | 103 => 0x401CBF24#32
  | 104 => 0xBE1DF94D#32
  | 105 => 0x3F5DB55E#32
  | 106 => 0x3F4E5808#32
  | 107 => 0x3FA8E863#32
  | 108 => 0x3E7F2C39#32
  | 109 => 0x40A8C798#32
  | 110 => 0x402994B1#32
  | 111 => 0xBF460704#32
  | 112 => 0x3F9ED862#32
  | 113 => 0x3FBD2153#32
  | 114 => 0x3F989A47#32
  | 115 => 0x4074FF05#32
  | 116 => 0xBCE187E7#32
  | 117 => 0xBF0E4656#32
  | 118 => 0x3F1B1FB5#32
  | 119 => 0x403DC29C#32
  | 120 => 0x3FAA2C8D#32
  | 121 => 0x3FBC4FD6#32
  | 122 => 0x3F1DE2E2#32
  | 123 => 0x3FBF6665#32
  | 124 => 0xBDB8AA1A#32
  | 125 => 0xBEEC8DB6#32
  | 126 => 0xBEA4C3C1#32
  | 127 => 0xBEDB9C0B#32
  | _ => 0#32

noncomputable abbrev lit0t0_82 (i : Nat) : BitVec 32 := match i % 128 with
  | 0 => 0xBC2642CF#32
  | 1 => 0xBF6484A0#32
  | 2 => 0x3DFAA6CA#32
  | 3 => 0x3EDD806B#32
  | 4 => 0x40995090#32
  | 5 => 0xBF2FE752#32
  | 6 => 0x3FAC651B#32
  | 7 => 0x3EB821FB#32
  | 8 => 0x3FE4EB7A#32
  | 9 => 0x3F07960F#32
  | 10 => 0x3FE3DFAD#32
  | 11 => 0x3F02AD1C#32
  | 12 => 0x3F6788E1#32
  | 13 => 0x3F73C366#32
  | 14 => 0xBF0FE7B1#32
  | 15 => 0xBF755C54#32
  | 16 => 0xBE9C32DD#32
  | 17 => 0x3F847DD6#32
  | 18 => 0xBF3B8A12#32
  | 19 => 0x401CC91B#32
  | 20 => 0x3E2D33AE#32
  | 21 => 0x3C86B1EF#32
  | 22 => 0xBEDC32A4#32
  | 23 => 0xBF3562C9#32
  | 24 => 0x4032520A#32
  | 25 => 0x3F3C748B#32
  | 26 => 0x4092BF31#32
  | 27 => 0x3F789D29#32
  | 28 => 0xBF3E8E4F#32
  | 29 => 0x3F575769#32
  | 30 => 0x3F865945#32
  | 31 => 0xBEA4CAAF#32
  | 32 => 0xBC2ED8D0#32
  | 33 => 0x3F6D9166#32
  | 34 => 0x3FA220AA#32
  | 35 => 0x3EBDB327#32
  | 36 => 0x3FA44EEF#32
  | 37 => 0x3F9545FF#32
  | 38 => 0xBD7FE162#32
  | 39 => 0x400E61A4#32
  | 40 => 0x3E8ACB7E#32
  | 41 => 0x3F2CEC2C#32
  | 42 => 0xBEC8FD40#32
  | 43 => 0xBFCC1735#32
  | 44 => 0x3FB27EEE#32
  | 45 => 0x3E5415AE#32
  | 46 => 0x3FD97A0C#32
  | 47 => 0xBFACCAD3#32
  | 48 => 0x400DC7ED#32
  | 49 => 0x3E34F84C#32
  | 50 => 0x3EA4D5F7#32
  | 51 => 0x3F87FD0E#32
  | 52 => 0x3EB6CF29#32
  | 53 => 0xBD07FD82#32
  | 54 => 0xBF14FDA3#32
  | 55 => 0x40003A7A#32
  | 56 => 0xBE72591D#32
  | 57 => 0x3F955EEF#32
  | 58 => 0xBED5C25B#32
  | 59 => 0x3F66E477#32
  | 60 => 0x40198D2D#32
  | 61 => 0x3EEFA411#32
  | 62 => 0xBE89D906#32
  | 63 => 0x3F2C240B#32
  | 64 => 0x4042C6E0#32
  | 65 => 0x3E8993C1#32
  | 66 => 0x400157E9#32
  | 67 => 0x3F274A4B#32
  | 68 => 0x3FB38ED9#32
  | 69 => 0x3F87C837#32
  | 70 => 0x3FC4D51A#32
  | 71 => 0xBEE6AE27#32
  | 72 => 0x3E12394C#32
  | 73 => 0xBEA3568A#32
  | 74 => 0x3E687924#32
  | 75 => 0xBEA4C1C9#32
  | 76 => 0xBF0572B2#32
  | 77 => 0x3F8A0FDD#32
  | 78 => 0x3E8DDB58#32
  | 79 => 0x3FF96225#32
  | 80 => 0x3FFF0B25#32
  | 81 => 0x3FAAD2BB#32
  | 82 => 0x3FBB214D#32
  | 83 => 0x3FBA9362#32
  | 84 => 0x3EA5403E#32
  | 85 => 0xBF174E08#32
  | 86 => 0x3DF7D38B#32
  | 87 => 0xBF833D38#32
  | 88 => 0x40313345#32
  | 89 => 0x3FA961AB#32
  | 90 => 0xBF2DAAD8#32
  | 91 => 0xBE664D50#32
  | 92 => 0xBF02FEB9#32
  | 93 => 0x3FB45690#32
  | 94 => 0xBE02582D#32
  | 95 => 0x3DB1B3D5#32
  | 96 => 0x3FCB5246#32
  | 97 => 0xBFCA857C#32
  | 98 => 0xBCD293AC#32
  | 99 => 0xBF7E2EF8#32
  | 100 => 0xBFAF3519#32
  | 101 => 0x3FDCEB84#32
  | 102 => 0xBE2EF8D6#32
  | 103 => 0x3E8D0FC0#32
  | 104 => 0xBD8B43C2#32
  | 105 => 0x3FC7BDE1#32
  | 106 => 0x402D8C11#32
  | 107 => 0xBF1103DA#32
  | 108 => 0xBF30818B#32
  | 109 => 0x406F2BB7#32
  | 110 => 0x3F841B5D#32
  | 111 => 0x401D5AF1#32
  | 112 => 0xBE50FD78#32
  | 113 => 0xBF855002#32
  | 114 => 0x3FC104AE#32
  | 115 => 0x3D30F619#32
  | 116 => 0x3FA86175#32
  | 117 => 0x4081A6C5#32
  | 118 => 0xBE2A1884#32
  | 119 => 0xBF74CC90#32
  | 120 => 0x3F61048F#32
  | 121 => 0x3F2C90EF#32
  | 122 => 0xBF2E05D1#32
  | 123 => 0x3E3CD829#32
  | 124 => 0x3AD7E980#32
  | 125 => 0x40A25C67#32
  | 126 => 0x3F813082#32
  | 127 => 0xBF9970F5#32
  | _ => 0#32

noncomputable abbrev lit0t0_83 (i : Nat) : BitVec 32 := match i % 128 with
  | 0 => 0xBEEDBCC4#32
  | 1 => 0x4093F08B#32
  | 2 => 0xBF129AEC#32
  | 3 => 0x3FB248D8#32
  | 4 => 0x3FCF999F#32
  | 5 => 0x3FA5742C#32
  | 6 => 0x3E7F920F#32
  | 7 => 0xBF0D794F#32
  | 8 => 0x3F75F902#32
  | 9 => 0x3EF8BA78#32
  | 10 => 0xBF132050#32
  | 11 => 0x3F035A48#32
  | 12 => 0x3F8C9559#32
  | 13 => 0xBF325240#32
  | 14 => 0x3F2E7889#32
  | 15 => 0x3EF049A9#32
  | 16 => 0x3F71E1F0#32
  | 17 => 0x3C590EF6#32
  | 18 => 0x3F727B52#32
  | 19 => 0x3FCB9F08#32
  | 20 => 0x401EDE1F#32
  | 21 => 0x3FA65801#32
  | 22 => 0xBE96DC5C#32
  | 23 => 0x3F08A374#32
  | 24 => 0x3FABE5F4#32
  | 25 => 0x3F885B58#32
  | 26 => 0x3F7CFEA8#32
  | 27 => 0x405298EA#32
  | 28 => 0xBDC204E3#32
  | 29 => 0x4022BBCF#32
  | 30 => 0xBE4A04EC#32
  | 31 => 0x3E810EA0#32
  | 32 => 0xBB809D4C#32
  | 33 => 0xBEE95828#32
  | 34 => 0x3FF1BF5B#32
  | 35 => 0xBE01CCEA#32
  | 36 => 0x3FAE9E3B#32
  | 37 => 0x3F24DB21#32
  | 38 => 0x4036FF1E#32
  | 39 => 0xBF0436AC#32
  | 40 => 0x406A2405#32
  | 41 => 0x4044C9FC#32
  | 42 => 0xBF72CB2A#32
  | 43 => 0x3F503AA8#32
  | 44 => 0x3FFDD158#32
  | 45 => 0x3FFC8E20#32
  | 46 => 0x3EB7B2B3#32
  | 47 => 0x3E372749#32
  | 48 => 0xBEEE810E#32
  | 49 => 0xBD53F899#32
  | 50 => 0x3DC83C84#32
  | 51 => 0xBEB73ACC#32
  | 52 => 0x3EE437DE#32
  | 53 => 0x400C6F06#32
  | 54 => 0x3F192775#32
  | 55 => 0x3FEA3205#32
  | 56 => 0x3F1C25CE#32
  | 57 => 0xBF37AFAE#32
  | 58 => 0xBF90DDC3#32
  | 59 => 0xBE24F493#32
  | 60 => 0xBEE698C6#32
  | 61 => 0x3F722B74#32
  | 62 => 0x4021993D#32
  | 63 => 0x406CB5D6#32
  | 64 => 0x4051BFC0#32
  | 65 => 0xBF3D2FE9#32
  | 66 => 0x3F25352C#32
  | 67 => 0xBFA44C31#32
  | 68 => 0xBEE0E537#32
  | 69 => 0x408A2D13#32
  | 70 => 0x3E937312#32
  | 71 => 0xBE1CBC15#32
  | 72 => 0xBE8E3ADC#32
  | 73 => 0x3C89CB45#32
  | 74 => 0x3FDD6A34#32
  | 75 => 0xBDD1E0D1#32
  | 76 => 0x3F30BAF6#32
  | 77 => 0x3EC4B002#32
  | 78 => 0x3F1B1555#32
  | 79 => 0x3F050C25#32
  | 80 => 0xBE9EC498#32
  | 81 => 0x3E290603#32
  | 82 => 0x407BB2D4#32
  | 83 => 0x3FC25F4B#32
  | 84 => 0x3F97DF90#32
  | 85 => 0x3FD56A11#32
  | 86 => 0x3FFEB7AD#32
  | 87 => 0xBF6A1C18#32
  | 88 => 0xBF0725F5#32
  | 89 => 0x3FC4CF38#32
  | 90 => 0x402FEE8E#32
  | 91 => 0x4044F048#32
  | 92 => 0xBFAA686E#32
  | 93 => 0xBE721559#32
  | 94 => 0x3E7480F7#32
  | 95 => 0x3FA8BCAE#32
  | 96 => 0x3EB62AB4#32
  | 97 => 0xBF218ABB#32
  | 98 => 0xBF5CA08F#32
  | 99 => 0xBE874CB9#32
  | 100 => 0x3EC62ADC#32
  | 101 => 0x3ECE3739#32
  | 102 => 0xBE1B8A4C#32
  | 103 => 0xBF61CC40#32
  | 104 => 0x3E05949C#32
  | 105 => 0x3FB451AA#32
  | 106 => 0xBC2D8CDC#32
  | 107 => 0xBFBDC207#32
  | 108 => 0xBE8F1BE6#32
  | 109 => 0x3F5719BE#32
  | 110 => 0x3F218F11#32
  | 111 => 0xBF51A08C#32
  | 112 => 0xBFD56BD7#32
  | 113 => 0x3FA94E1A#32
  | 114 => 0x3E8177BC#32
  | 115 => 0xBE782510#32
  | 116 => 0x3E6196B4#32
  | 117 => 0x3EDDAA07#32
  | 118 => 0x3F90E0BA#32
  | 119 => 0xBFA5A3D5#32
  | 120 => 0xBBA5A3A6#32
  | 121 => 0xBF580C21#32
  | 122 => 0xBE341127#32
  | 123 => 0xBE38F9A6#32
  | 124 => 0x4086DBCF#32
  | 125 => 0x3F8C8AC9#32
  | 126 => 0xBF609BB3#32
  | 127 => 0x3F0F21D7#32
  | _ => 0#32

noncomputable abbrev lit0t0_84 (i : Nat) : BitVec 32 := match i % 128 with
  | 0 => 0x3E8D653E#32
  | 1 => 0xBF5405CC#32
  | 2 => 0xBE955135#32
  | 3 => 0x3FFC121E#32
  | 4 => 0x3DDB71D1#32
  | 5 => 0x408D41AB#32
  | 6 => 0x3F89D0D9#32
  | 7 => 0x3E4095A0#32
  | 8 => 0x3C4918A6#32
  | 9 => 0xBF1AF63A#32
  | 10 => 0x3E667419#32
  | 11 => 0x3F79864C#32
  | 12 => 0x3F8B2FC8#32
  | 13 => 0x3F9D3B8F#32
  | 14 => 0xBF63EE61#32
  | 15 => 0x3FC21ABF#32
  | 16 => 0xBECED525#32
  | 17 => 0xBEDFC5CC#32
  | 18 => 0x3F4A32A7#32
  | 19 => 0xBF0E8717#32
  | 20 => 0x3FCC3DCC#32
  | 21 => 0x3AE245F9#32
  | 22 => 0x3F4563D3#32
  | 23 => 0x3F916CAA#32
  | 24 => 0xBEFC609E#32
  | 25 => 0xBE176FEE#32
  | 26 => 0x3D64AD29#32
  | 27 => 0x4021E7D4#32
  | 28 => 0x3F5948E0#32
  | 29 => 0x3E56C893#32
  | 30 => 0xBDCD133A#32
  | 31 => 0x3FC68BAA#32
  | 32 => 0x3FF76D64#32
  | 33 => 0x3FC3166F#32
  | 34 => 0x3FD150E8#32
  | 35 => 0x3F9C09AE#32
  | 36 => 0xBEE0C1EA#32
  | 37 => 0xBF3C741F#32
  | 38 => 0x401C8C47#32
  | 39 => 0x3FA21D30#32
  | 40 => 0x4024AFEE#32
  | 41 => 0x3F548CB0#32
  | 42 => 0x3ECE4802#32
  | 43 => 0x3FB691D1#32
  | 44 => 0x3F5715BC#32
  | 45 => 0xBD37F817#32
  | 46 => 0x3FB7D262#32
  | 47 => 0xBF8518A7#32
  | 48 => 0xBE2CD1EE#32
  | 49 => 0xBE9F534A#32
  | 50 => 0x3F79679E#32
  | 51 => 0x3EC92BAB#32
  | 52 => 0x3F7ED86E#32
  | 53 => 0x3ED0C46E#32
  | 54 => 0xBE1CA1B2#32
  | 55 => 0x3DC06504#32
  | 56 => 0x3EFD3160#32
  | 57 => 0x3F23B85B#32
  | 58 => 0xBFB57B30#32
  | 59 => 0x3F1026C0#32
  | 60 => 0xBEEB800B#32
  | 61 => 0x3F13CAB6#32
  | 62 => 0x3F28C987#32
  | 63 => 0xBE28FE03#32
  | 64 => 0x403D031D#32
  | 65 => 0x3F90C47D#32
  | 66 => 0x3EF1EE34#32
  | 67 => 0x40052AA9#32
  | 68 => 0xBF57D45F#32
  | 69 => 0xBF6D2EE8#32
  | 70 => 0xBD4DD108#32
  | 71 => 0x3F24F352#32
  | 72 => 0x3BE2509D#32
  | 73 => 0x40345C6F#32
  | 74 => 0xBEE8E288#32
  | 75 => 0x3FC692E8#32
  | 76 => 0x3FA0FD61#32
  | 77 => 0x40883BEB#32
  | 78 => 0x3EA5F10B#32
  | 79 => 0x3FB1356A#32
  | 80 => 0x3DB8225B#32
  | 81 => 0x3FAA0E18#32
  | 82 => 0x3E785E08#32
  | 83 => 0xBFB28FDA#32
  | 84 => 0x3FAE39CC#32
  | 85 => 0x3F9AA550#32
  | 86 => 0x402A2B35#32
  | 87 => 0x3FE7B9D5#32
  | 88 => 0xBF53CA66#32
  | 89 => 0x3F8563B8#32
  | 90 => 0x3F2A2A2A#32
  | 91 => 0x3F0DC5D4#32
  | 92 => 0x3EA31DE5#32
  | 93 => 0x3E0D0AAE#32
  | 94 => 0xBF210DAC#32
  | 95 => 0x3ED99FD3#32
  | 96 => 0x3FDBB023#32
  | 97 => 0xBF48C52A#32
  | 98 => 0x3F1F64F6#32
  | 99 => 0xBE40723C#32
  | 100 => 0x3F580ECB#32
  | 101 => 0x3FEC0DB4#32
  | 102 => 0xBEFD248F#32
  | 103 => 0x3D6594E5#32
  | 104 => 0x3E8090A5#32
  | 105 => 0x4043914A#32
  | 106 => 0xBFAC89F6#32
  | 107 => 0x3E26C1B2#32
  | 108 => 0x3F007537#32
  | 109 => 0x3F8CB99C#32
  | 110 => 0xBE800850#32
  | 111 => 0x3F8875D4#32
  | 112 => 0xBE8DCACD#32
  | 113 => 0xBFB0CD3D#32
  | 114 => 0xBE53677E#32
  | 115 => 0x405FA7F0#32
  | 116 => 0x4003CC79#32
  | 117 => 0xBECFF0B0#32
  | 118 => 0x3F62028E#32
  | 119 => 0x3FF68DA6#32
  | 120 => 0xBF8F21D6#32
  | 121 => 0xBD05ED92#32
  | 122 => 0x3F914985#32
  | 123 => 0xBF3677EC#32
  | 124 => 0xBEA515DA#32
  | 125 => 0xBFA2038D#32
  | 126 => 0x3ED67ADB#32
  | 127 => 0x3D403B6F#32
  | _ => 0#32

noncomputable abbrev lit0t0_85 (i : Nat) : BitVec 32 := match i % 128 with
  | 0 => 0xBDFBAFEE#32
  | 1 => 0xBF1056DB#32
  | 2 => 0xBF00D03D#32
  | 3 => 0x3F616098#32
  | 4 => 0x3FA4A8AA#32
  | 5 => 0xBF186A3E#32
  | 6 => 0xBE837776#32
  | 7 => 0xBF8817B4#32
  | 8 => 0xBE7BD2A0#32
  | 9 => 0xBE54429A#32
  | 10 => 0xBB45160F#32
  | 11 => 0x3FC5D8A4#32
  | 12 => 0xBF37C3C7#32
  | 13 => 0x3FFA540B#32
  | 14 => 0x3E59F15E#32
  | 15 => 0xBF56D4A6#32
  | 16 => 0xBEDF4FCA#32
  | 17 => 0x3ED117D0#32
  | 18 => 0x3F73950A#32
  | 19 => 0xBE8C66E9#32
  | 20 => 0x3F3C85EC#32
  | 21 => 0x3E8E869E#32
  | 22 => 0x3E9C9A5C#32
  | 23 => 0x3F8D3862#32
  | 24 => 0x402B7BC5#32
  | 25 => 0xBFBD4D06#32
  | 26 => 0x3F86C17A#32
  | 27 => 0x3EF8AF6B#32
  | 28 => 0x3FC2D5FE#32
  | 29 => 0x3E78D265#32
  | 30 => 0xBF28B6B4#32
  | 31 => 0xBE87F940#32
  | 32 => 0x3E9422BE#32
  | 33 => 0x3F041E3D#32
  | 34 => 0x3EF1CC96#32
  | 35 => 0x40822A56#32
  | 36 => 0x3F055011#32
  | 37 => 0x40152901#32
  | 38 => 0x3EDADBA9#32
  | 39 => 0x3F94D036#32
  | 40 => 0x3EF486A7#32
  | 41 => 0xBF92CEF2#32
  | 42 => 0x3FA7FD2F#32
  | 43 => 0xBEE48D86#32
  | 44 => 0x3F751794#32
  | 45 => 0x4003C6F0#32
  | 46 => 0x3F8D6E4A#32
  | 47 => 0xBEF407FF#32
  | 48 => 0xBF7D1E7A#32
  | 49 => 0xBEF1D920#32
  | 50 => 0xBEF0200E#32
  | 51 => 0xBEFF4230#32
  | 52 => 0x3FB7AF5B#32
  | 53 => 0x3F629E3B#32
  | 54 => 0x3FC47990#32
  | 55 => 0xBFBCEEC3#32
  | 56 => 0x3EF30B5B#32
  | 57 => 0x4022DCD4#32
  | 58 => 0xBF8554B3#32
  | 59 => 0x3FA01344#32
  | 60 => 0xBDEAAAF1#32
  | 61 => 0x3EBB51D6#32
  | 62 => 0x3DDAC98E#32
  | 63 => 0x4023E010#32
  | 64 => 0x3F95DC21#32
  | 65 => 0xBE90C811#32
  | 66 => 0x3EEFF2F6#32
  | 67 => 0x3FC85D7E#32
  | 68 => 0xBF9299F6#32
  | 69 => 0x40437C0A#32
  | 70 => 0xBE11C11A#32
  | 71 => 0xBF3AC2E0#32
  | 72 => 0x40189F68#32
  | 73 => 0x3CE20AF3#32
  | 74 => 0xBD728AD5#32
  | 75 => 0xBE8696E0#32
  | 76 => 0x3DD69025#32
  | 77 => 0xBECCD220#32
  | 78 => 0xBEA8BF32#32
  | 79 => 0xBEE726B1#32
  | 80 => 0x3F434C32#32
  | 81 => 0xBD3DF94C#32
  | 82 => 0x3FB7E8A9#32
  | 83 => 0x4022084C#32
  | 84 => 0x401E4A8B#32
  | 85 => 0xBE7769D9#32
  | 86 => 0x3F6702EA#32
  | 87 => 0x40002B5A#32
  | 88 => 0xBF299AB6#32
  | 89 => 0x3FA3478E#32
  | 90 => 0x3E2DED11#32
  | 91 => 0x3FAF82F0#32
  | 92 => 0xBEC481B1#32
  | 93 => 0x3E6A4F50#32
  | 94 => 0xBDE9002F#32
  | 95 => 0x3FC95F94#32
  | 96 => 0x3F4F7530#32
  | 97 => 0xBDA2D195#32
  | 98 => 0xBD8F4AFC#32
  | 99 => 0x3EFA3940#32
  | 100 => 0xBD94301F#32
  | 101 => 0x3FDD5FC3#32
  | 102 => 0xBEBD6D90#32
  | 103 => 0x40CF88B6#32
  | 104 => 0x40257DE6#32
  | 105 => 0x3FF932AB#32
  | 106 => 0x3FD745EB#32
  | 107 => 0x3F1E5CD1#32
  | 108 => 0xBF43C407#32
  | 109 => 0x3F8B6AEC#32
  | 110 => 0x3E284E64#32
  | 111 => 0x3D510B2A#32
  | 112 => 0x3F870841#32
  | 113 => 0x3EEF1094#32
  | 114 => 0x3E293BB3#32
  | 115 => 0x3CF16AA6#32
  | 116 => 0x40176C13#32
  | 117 => 0x3DAD9D47#32
  | 118 => 0xBF60849C#32
  | 119 => 0x3FAE696F#32
  | 120 => 0xBF529193#32
  | 121 => 0xBF799919#32
  | 122 => 0xBD6E7EBF#32
  | 123 => 0xBF548514#32
  | 124 => 0x3E5E2CA6#32
  | 125 => 0x3E60C53B#32
  | 126 => 0x3F22C907#32
  | 127 => 0x3FA7E264#32
  | _ => 0#32

noncomputable abbrev lit0t0_86 (i : Nat) : BitVec 32 := match i % 128 with
  | 0 => 0xBF8506ED#32
  | 1 => 0x3DD2A4A2#32
  | 2 => 0xBEC0DAE8#32
  | 3 => 0x3EC84004#32
  | 4 => 0x3D3624D0#32
  | 5 => 0x3EC51F6A#32
  | 6 => 0x3E99DC17#32
  | 7 => 0x3EB1DDD7#32
  | 8 => 0x3F5079ED#32
  | 9 => 0xBEB54EFF#32
  | 10 => 0x3F5B484B#32
  | 11 => 0xBE09D260#32
  | 12 => 0x3F5643A6#32
  | 13 => 0x3F05C892#32
  | 14 => 0x3F15AD7F#32
  | 15 => 0x3E5D4AFF#32
  | 16 => 0x3FE7559F#32
  | 17 => 0x3F92530D#32
  | 18 => 0xBEE03575#32
  | 19 => 0x3FE25E0F#32
  | 20 => 0xBF05C891#32
  | 21 => 0xBFADA785#32
  | 22 => 0x40BAE388#32
  | 23 => 0x402398F5#32
  | 24 => 0xBED9C27E#32
  | 25 => 0xBEF3D6B4#32
  | 26 => 0x3F85FB8C#32
  | 27 => 0xBE9278F8#32
  | 28 => 0xBF68A0A6#32
  | 29 => 0x3F16CFB8#32
  | 30 => 0xBCCCE259#32
  | 31 => 0xBF0BA10A#32
  | 32 => 0xBE13CB9B#32
  | 33 => 0x3E63F4F3#32
  | 34 => 0xBFDAA1CC#32
  | 35 => 0x3F426276#32
  | 36 => 0xBFB5C111#32
  | 37 => 0x3F0C5865#32
  | 38 => 0xBDA19BEC#32
  | 39 => 0x3FAE744C#32
  | 40 => 0xBE937219#32
  | 41 => 0xBEFDA21E#32
  | 42 => 0xBEFF64C1#32
  | 43 => 0x3E9310B9#32
  | 44 => 0x40644BAB#32
  | 45 => 0x405073D4#32
  | 46 => 0x3FD0AFF1#32
  | 47 => 0x3EC928CC#32
  | 48 => 0x400E4C1D#32
  | 49 => 0x3FF76B16#32
  | 50 => 0x4000C90A#32
  | 51 => 0x3FBCD1CE#32
  | 52 => 0x3FA0E492#32
  | 53 => 0xBE97AF23#32
  | 54 => 0xBF8ADDEC#32
  | 55 => 0x3FA6CAEB#32
  | 56 => 0x3F577F36#32
  | 57 => 0x3E8581A9#32
  | 58 => 0xBBCFF4B7#32
  | 59 => 0xBE3942DC#32
  | 60 => 0x3F03428F#32
  | 61 => 0x3FF567C3#32
  | 62 => 0x3E75AE83#32
  | 63 => 0x3F9D8179#32
  | 64 => 0xBF8157F4#32
  | 65 => 0x3FB41FCD#32
  | 66 => 0x40084958#32
  | 67 => 0xBEAC1348#32
  | 68 => 0xBE4DEF57#32
  | 69 => 0xBE0DF766#32
  | 70 => 0x3EC82D7B#32
  | 71 => 0xBDECDE45#32
  | 72 => 0x3F1D144D#32
  | 73 => 0x404E68EE#32
  | 74 => 0x3F43BA24#32
  | 75 => 0x3E253454#32
  | 76 => 0x3FF8554A#32
  | 77 => 0xBDB58C64#32
  | 78 => 0x3F00AF2A#32
  | 79 => 0x3FCC7408#32
  | 80 => 0xBD5F5449#32
  | 81 => 0x3FA4B1BA#32
  | 82 => 0x3FF14725#32
  | 83 => 0xBE7D1437#32
  | 84 => 0x3F9AA8D2#32
  | 85 => 0x3F8A8C32#32
  | 86 => 0x3E8301C3#32
  | 87 => 0xBE3D3833#32
  | 88 => 0x40E287A0#32
  | 89 => 0x3F3C9855#32
  | 90 => 0xBE924A75#32
  | 91 => 0x3FBF79D9#32
  | 92 => 0xBF0487C4#32
  | 93 => 0x3E8774C8#32
  | 94 => 0xBF30C8EE#32
  | 95 => 0x3FF7730A#32
  | 96 => 0x3F047BC7#32
  | 97 => 0x40684C88#32
  | 98 => 0xBF6DB93C#32
  | 99 => 0xBFAF7482#32
  | 100 => 0x3FFFA1FD#32
  | 101 => 0x3FD7C8F0#32
  | 102 => 0x3F217B64#32
  | 103 => 0xBF287D08#32
  | 104 => 0x3F582FB2#32
  | 105 => 0xBF05160A#32
  | 106 => 0x3E85D5A0#32
  | 107 => 0x4083C845#32
  | 108 => 0xBEAFB65D#32
  | 109 => 0x3FD653F5#32
  | 110 => 0x3F34F195#32
  | 111 => 0x3F940E36#32
  | 112 => 0xBF581A4A#32
  | 113 => 0xBEE780DA#32
  | 114 => 0x3FB91D9C#32
  | 115 => 0x3EE8B3DE#32
  | 116 => 0xBF745D03#32
  | 117 => 0x3EE050EA#32
  | 118 => 0xBD78BA75#32
  | 119 => 0x3EA6E329#32
  | 120 => 0x3FABFF42#32
  | 121 => 0xBF2FD22E#32
  | 122 => 0xBA6BECD0#32
  | 123 => 0x3EC8C2FA#32
  | 124 => 0xBD6DEDCD#32
  | 125 => 0x3F07651B#32
  | 126 => 0x404D1174#32
  | 127 => 0xBF3053A2#32
  | _ => 0#32

noncomputable abbrev lit0t0_87 (i : Nat) : BitVec 32 := match i % 128 with
  | 0 => 0xBEA7DAE4#32
  | 1 => 0x3F6ABDF9#32
  | 2 => 0xBE395DFB#32
  | 3 => 0x3B41B134#32
  | 4 => 0x3F8ABB7E#32
  | 5 => 0x3F64713B#32
  | 6 => 0x3F268810#32
  | 7 => 0x3C9E4B01#32
  | 8 => 0x3CDD166B#32
  | 9 => 0xBF194708#32
  | 10 => 0xBF2369C5#32
  | 11 => 0xBE295F35#32
  | 12 => 0xBF6828C5#32
  | 13 => 0x3FE00904#32
  | 14 => 0x3DEF8482#32
  | 15 => 0x3E009332#32
  | 16 => 0x3E797618#32
  | 17 => 0x4037A84F#32
  | 18 => 0x3F9396BC#32
  | 19 => 0xBF082324#32
  | 20 => 0x4039051A#32
  | 21 => 0xBD9EC948#32
  | 22 => 0x40F5EBC2#32
  | 23 => 0xBF6DF101#32
  | 24 => 0x3F866F34#32
  | 25 => 0xBE67A5A7#32
  | 26 => 0x3FBB401A#32
  | 27 => 0xBF12785D#32
  | 28 => 0x3E8D8B1D#32
  | 29 => 0x40322FA3#32
  | 30 => 0x3ED4F673#32
  | 31 => 0xBDE5473A#32
  | 32 => 0xBF2B3C8D#32
  | 33 => 0x4000428D#32
  | 34 => 0xBF838462#32
  | 35 => 0x3F3F0BBB#32
  | 36 => 0xBDB8B8C7#32
  | 37 => 0x406304EF#32
  | 38 => 0x3E9B9BA7#32
  | 39 => 0x3F722678#32
  | 40 => 0x405919F1#32
  | 41 => 0x405AE6D6#32
  | 42 => 0x3DFFC82A#32
  | 43 => 0x3F826104#32
  | 44 => 0x3F16984E#32
  | 45 => 0xBE6C495E#32
  | 46 => 0x3DD63BEE#32
  | 47 => 0x3F0636A0#32
  | 48 => 0x3FC644B5#32
  | 49 => 0xBFB59BA7#32
  | 50 => 0x3FAD8C98#32
  | 51 => 0x403EC1FF#32
  | 52 => 0x3C553C31#32
  | 53 => 0xBF040C3A#32
  | 54 => 0x3F204BE7#32
  | 55 => 0xBF3E83ED#32
  | 56 => 0xBF38B4CC#32
  | 57 => 0x3F780CC2#32
  | 58 => 0xBEFDAC57#32
  | 59 => 0xBE9793F2#32
  | 60 => 0xBF23B26D#32
  | 61 => 0xBEA0DCA3#32
  | 62 => 0xBD0AE865#32
  | 63 => 0x3FC4B3C2#32
  | 64 => 0x3F8E591F#32
  | 65 => 0x3F55FF27#32
  | 66 => 0xBEABC16E#32
  | 67 => 0x3E87AD7D#32
  | 68 => 0x3F8B2876#32
  | 69 => 0x3EF70F01#32
  | 70 => 0xBF2780E3#32
  | 71 => 0x3F40BBE3#32
  | 72 => 0xBE2C7852#32
  | 73 => 0x405BBB16#32
  | 74 => 0x4009CB8E#32
  | 75 => 0xBF11FAE7#32
  | 76 => 0x3F459931#32
  | 77 => 0x3DC134A4#32
  | 78 => 0x3E9F0B89#32
  | 79 => 0x3F8A42E4#32
  | 80 => 0xBE4E3831#32
  | 81 => 0x3EA5206B#32
  | 82 => 0xBF2D042D#32
  | 83 => 0xBE279CFB#32
  | 84 => 0x3F7BAD19#32
  | 85 => 0x3EB20646#32
  | 86 => 0x3E4B4C51#32
  | 87 => 0xBF65AE83#32
  | 88 => 0x3F8BAA34#32
  | 89 => 0x3EB11CF3#32
  | 90 => 0x3E7BC361#32
  | 91 => 0x3ECD2B67#32
  | 92 => 0xBF9AE4B7#32
  | 93 => 0x400543FD#32
  | 94 => 0x3FFA33C6#32
  | 95 => 0x3D2075B3#32
  | 96 => 0xBE244EFD#32
  | 97 => 0x3F268BCD#32
  | 98 => 0xBE8AAEC3#32
  | 99 => 0x3F2B8C76#32
  | 100 => 0x3FD5BEFC#32
  | 101 => 0x3F7A9A9E#32
  | 102 => 0xBF8A7893#32
  | 103 => 0x3F7E5E70#32
  | 104 => 0xBF94E0B1#32
  | 105 => 0x3F86CFC4#32
  | 106 => 0x4010D158#32
  | 107 => 0x3EE23D4A#32
  | 108 => 0x4041F408#32
  | 109 => 0x402F81ED#32
  | 110 => 0xBEEBD70C#32
  | 111 => 0xBED2D1D0#32
  | 112 => 0x3F016667#32
  | 113 => 0xBF56E176#32
  | 114 => 0x402C7DF1#32
  | 115 => 0x3EBAC930#32
  | 116 => 0x3FBC82D7#32
  | 117 => 0x40080224#32
  | 118 => 0x3FA68E31#32
  | 119 => 0x3EB43635#32
  | 120 => 0x3E9E7667#32
  | 121 => 0x40192CCD#32
  | 122 => 0xBE622C51#32
  | 123 => 0x3FD5F3D0#32
  | 124 => 0xBEF4120C#32
  | 125 => 0x40369466#32
  | 126 => 0xBD1BA7AD#32
  | 127 => 0x3FAB9AEC#32
  | _ => 0#32

noncomputable abbrev lit0t0_88 (i : Nat) : BitVec 32 := match i % 128 with
  | 0 => 0x3F259EF6#32
  | 1 => 0xBF54A6E1#32
  | 2 => 0xBF1FC398#32
  | 3 => 0xBC9F928A#32
  | 4 => 0xBEE1B12B#32
  | 5 => 0x3DFFD006#32
  | 6 => 0xBF8D1AE0#32
  | 7 => 0xBDFB95E5#32
  | 8 => 0x3EE99741#32
  | 9 => 0xBD87D1A9#32
  | 10 => 0xBFD46689#32
  | 11 => 0x3ED38BA8#32
  | 12 => 0x3F7F50B2#32
  | 13 => 0xBF6D404E#32
  | 14 => 0x402F340B#32
  | 15 => 0x3F7D4776#32
  | 16 => 0xBF91E9DA#32
  | 17 => 0x400659F1#32
  | 18 => 0xBEC3E507#32
  | 19 => 0xBE7A0E33#32
  | 20 => 0x3E2474FD#32
  | 21 => 0x4004C396#32
  | 22 => 0xBF848EE7#32
  | 23 => 0x40CDAD8C#32
  | 24 => 0x3D6152F5#32
  | 25 => 0x3FD732BA#32
  | 26 => 0x4000C3D4#32
  | 27 => 0xBE359703#32
  | 28 => 0x3DB5C075#32
  | 29 => 0xBEC0EEC0#32
  | 30 => 0x3F801F52#32
  | 31 => 0x3F34CA5E#32
  | 32 => 0x40152D30#32
  | 33 => 0x4008CFE3#32
  | 34 => 0x3F55798D#32
  | 35 => 0xBEC7BB2B#32
  | 36 => 0xBF4092C8#32
  | 37 => 0x3ECDF4DE#32
  | 38 => 0x3EF5055F#32
  | 39 => 0xBF83E5DC#32
  | 40 => 0x3F53FB9E#32
  | 41 => 0x3EF1B29B#32
  | 42 => 0x403E7871#32
  | 43 => 0x3F1A80A3#32
  | 44 => 0xBF02C9A0#32
  | 45 => 0x3FCAD35E#32
  | 46 => 0x3F938D32#32
  | 47 => 0xBF11E36A#32
  | 48 => 0xBF31F2A0#32
  | 49 => 0xBFAD91BF#32
  | 50 => 0x3F11970A#32
  | 51 => 0xBD7F9BA0#32
  | 52 => 0x3FDE99AA#32
  | 53 => 0x3F4A2D58#32
  | 54 => 0x400FA7FC#32
  | 55 => 0x3FA9CE27#32
  | 56 => 0x4001C040#32
  | 57 => 0x402E9616#32
  | 58 => 0xBEBC4E0F#32
  | 59 => 0x3FD6B551#32
  | 60 => 0x3F440922#32
  | 61 => 0x3E8BAAF2#32
  | 62 => 0xBF35CD5B#32
  | 63 => 0xBECD7E29#32
  | 64 => 0x3F28D535#32
  | 65 => 0x3FC64601#32
  | 66 => 0x3FA25474#32
  | 67 => 0x408A9265#32
  | 68 => 0xBF203CF5#32
  | 69 => 0x3F5F7C01#32
  | 70 => 0xBE790DA7#32
  | 71 => 0xBF7B422C#32
  | 72 => 0xBE606E87#32
  | 73 => 0x3F6824D0#32
  | 74 => 0xBF6599DC#32
  | 75 => 0xBEC094D6#32
  | 76 => 0xBF0386C0#32
  | 77 => 0x3ED90723#32
  | 78 => 0xBED92DDF#32
  | 79 => 0x3F460B1B#32
  | 80 => 0x3F54DB51#32
  | 81 => 0xBE0A9311#32
  | 82 => 0x401AD193#32
  | 83 => 0xBEA30A0A#32
  | 84 => 0xBE77AD16#32
  | 85 => 0x40564922#32
  | 86 => 0xBF80F29C#32
  | 87 => 0x40131A6E#32
  | 88 => 0x3D9ECC2E#32
  | 89 => 0x3E675011#32
  | 90 => 0x3F577AD5#32
  | 91 => 0x3F9827B1#32
  | 92 => 0x3C10E2C4#32
  | 93 => 0x3F411E60#32
  | 94 => 0x3F015EE6#32
  | 95 => 0x3EC75C50#32
  | 96 => 0x403D29B2#32
  | 97 => 0xBFB6E871#32
  | 98 => 0x4042AA95#32
  | 99 => 0x3E086957#32
  | 100 => 0xBE820F52#32
  | 101 => 0x4035A0D4#32
  | 102 => 0xBF8E2BDE#32
  | 103 => 0x3FAFE8A4#32
  | 104 => 0x3F3090B9#32
  | 105 => 0x3FD79E75#32
  | 106 => 0x3F8D71E7#32
  | 107 => 0xBE956928#32
  | 108 => 0x3D896B8F#32
  | 109 => 0xBF30A825#32
  | 110 => 0x3F504517#32
  | 111 => 0x3EC649DA#32
  | 112 => 0xBE804837#32
  | 113 => 0x3EFEDF71#32
  | 114 => 0x3EF5068C#32
  | 115 => 0xBEDB527A#32
  | 116 => 0x3FA25679#32
  | 117 => 0x404572AA#32
  | 118 => 0xBF8FCE55#32
  | 119 => 0x3DB736FA#32
  | 120 => 0x3F3C37BA#32
  | 121 => 0xBEE40EEF#32
  | 122 => 0x3FBC03D8#32
  | 123 => 0x3E02728D#32
  | 124 => 0x3EC5F9FE#32
  | 125 => 0x4001D94F#32
  | 126 => 0xBDE484F3#32
  | 127 => 0x3FF18275#32
  | _ => 0#32

noncomputable abbrev lit0t0_89 (i : Nat) : BitVec 32 := match i % 128 with
  | 0 => 0x409FACF5#32
  | 1 => 0x3F2A4280#32
  | 2 => 0x404E4181#32
  | 3 => 0xBF52C0DE#32
  | 4 => 0xBD56D326#32
  | 5 => 0xBF324529#32
  | 6 => 0xBEE81B22#32
  | 7 => 0x3F1DF798#32
  | 8 => 0xBF89A82A#32
  | 9 => 0x40629964#32
  | 10 => 0x3C3C0665#32
  | 11 => 0x3D88C3A7#32
  | 12 => 0xBFC8F555#32
  | 13 => 0x3F02CEAE#32
  | 14 => 0x402223D8#32
  | 15 => 0x3F62D4A6#32
  | 16 => 0x3D7A6ECD#32
  | 17 => 0x4023ECBE#32
  | 18 => 0xBDF840EA#32
  | 19 => 0x3DD99A01#32
  | 20 => 0x40992875#32
  | 21 => 0x4017AB22#32
  | 22 => 0xBEE25AB2#32
  | 23 => 0x3F32B854#32
  | 24 => 0x3FBBF4BF#32
  | 25 => 0xBF3B70B2#32
  | 26 => 0x3DDA2CE4#32
  | 27 => 0xBEA8D4DC#32
  | 28 => 0x3F877FA8#32
  | 29 => 0xBE7E6E08#32
  | 30 => 0xBEA6DDFC#32
  | 31 => 0x3ED0FFC8#32
  | 32 => 0x3F5E26A1#32
  | 33 => 0xBF6353D5#32
  | 34 => 0xBEE6F18A#32
  | 35 => 0xBEA01CE9#32
  | 36 => 0x3F1C956B#32
  | 37 => 0x3F9A57EA#32
  | 38 => 0xBFB920E2#32
  | 39 => 0xBEA1CC28#32
  | 40 => 0xBEDB107C#32
  | 41 => 0xBF8EB4AC#32
  | 42 => 0xBFC0755F#32
  | 43 => 0x404858D0#32
  | 44 => 0x3F8D338B#32
  | 45 => 0x3DFDA268#32
  | 46 => 0x40D46236#32
  | 47 => 0xBE226874#32
  | 48 => 0x3E6F2F64#32
  | 49 => 0x40729AB4#32
  | 50 => 0x3ECEB969#32
  | 51 => 0x3F31E458#32
  | 52 => 0xBFA02995#32
  | 53 => 0x3D5D1FAC#32
  | 54 => 0x40985DF7#32
  | 55 => 0xBE519601#32
  | 56 => 0xBEE7876A#32
  | 57 => 0x3F6DB15B#32
  | 58 => 0x3F5DC1E0#32
  | 59 => 0x3F24F67D#32
  | 60 => 0x3FA7466D#32
  | 61 => 0xBD123723#32
  | 62 => 0x3F7DB207#32
  | 63 => 0x3F2D6D68#32
  | 64 => 0x3F2788B7#32
  | 65 => 0xBF8CB882#32
  | 66 => 0x3FFA7E69#32
  | 67 => 0x3F878BC8#32
  | 68 => 0x3F0189A4#32
  | 69 => 0xBF14FF92#32
  | 70 => 0x3FAC17AD#32
  | 71 => 0x3FAB5C1C#32
  | 72 => 0x3F1F040F#32
  | 73 => 0x3EE4895A#32
  | 74 => 0x3FBED736#32
  | 75 => 0x40276395#32
  | 76 => 0x40116D2B#32
  | 77 => 0x3FA17134#32
  | 78 => 0xBE757455#32
  | 79 => 0x3EA60989#32
  | 80 => 0xBF4BB09F#32
  | 81 => 0xBB80E406#32
  | 82 => 0x3FA21A6E#32
  | 83 => 0xBE71DE74#32
  | 84 => 0x3F5655C8#32
  | 85 => 0xBEEBD29F#32
  | 86 => 0xBE1420B8#32
  | 87 => 0xBF59CBA2#32
  | 88 => 0x40302463#32
  | 89 => 0xBF72E22C#32
  | 90 => 0xBEBCB6C6#32
  | 91 => 0x3D219A2A#32
  | 92 => 0xBEE9412E#32
  | 93 => 0xBF0EF958#32
  | 94 => 0x3F6125A7#32
  | 95 => 0x40253122#32
  | 96 => 0x400BFF5A#32
  | 97 => 0xBF8D5FEE#32
  | 98 => 0x3E8264D1#32
  | 99 => 0x3F8E03D8#32
  | 100 => 0x3E5B6373#32
  | 101 => 0x3FD120E2#32
  | 102 => 0x3FB759F3#32
  | 103 => 0x3F87D7F1#32
  | 104 => 0xBF3E43B1#32
  | 105 => 0xBF8B9D96#32
  | 106 => 0xBF949F96#32
  | 107 => 0x3FD1F828#32
  | 108 => 0x4016B6A8#32
  | 109 => 0xBF6F37B7#32
  | 110 => 0xBFDAFF2F#32
  | 111 => 0x3F423632#32
  | 112 => 0xBED5C7C2#32
  | 113 => 0x3F9F274A#32
  | 114 => 0x3EBE5207#32
  | 115 => 0x3F67C48D#32
  | 116 => 0x3F6386F1#32
  | 117 => 0x3F144992#32
  | 118 => 0xBF61FEFA#32
  | 119 => 0xBF808E0E#32
  | 120 => 0xBE260ADA#32
  | 121 => 0xBF8B4FEE#32
  | 122 => 0xBF028AA0#32
  | 123 => 0x4023DA46#32
  | 124 => 0x3F84FE9E#32
  | 125 => 0x3F0F6CD2#32
  | 126 => 0xBDD00DF8#32
  | 127 => 0x3FAF67CE#32
  | _ => 0#32

noncomputable abbrev lit0t0_90 (i : Nat) : BitVec 32 := match i % 128 with
  | 0 => 0x3FC27B6F#32
  | 1 => 0x3EB1C20E#32
  | 2 => 0x3F99921A#32
  | 3 => 0x3F96C2D7#32
  | 4 => 0xBEBB1E8E#32
  | 5 => 0x3FA2133A#32
  | 6 => 0x3FFE3D72#32
  | 7 => 0xBFAC00B3#32
  | 8 => 0x3F527F2E#32
  | 9 => 0x3F80A682#32
  | 10 => 0x3FA23B37#32
  | 11 => 0x3F24180A#32
  | 12 => 0x3CDAF539#32
  | 13 => 0xBF15F4B6#32
  | 14 => 0x3FD2781D#32
  | 15 => 0x3F8A7D26#32
  | 16 => 0x3F1027A6#32
  | 17 => 0xBEA0CD07#32
  | 18 => 0x3F3260A8#32
  | 19 => 0xBC8FE7C6#32
  | 20 => 0x3F9F3836#32
  | 21 => 0xBFAF6B31#32
  | 22 => 0xBF22A854#32
  | 23 => 0xBF85193D#32
  | 24 => 0x3FAF3966#32
  | 25 => 0xBF16966F#32
  | 26 => 0xBF732BF7#32
  | 27 => 0x3FDDC1A1#32
  | 28 => 0x3F119DB9#32
  | 29 => 0x3C9171F6#32
  | 30 => 0x3FDC715C#32
  | 31 => 0x3F0599B6#32
  | 32 => 0x3EC98AEC#32
  | 33 => 0x40B0A88F#32
  | 34 => 0x3F6ECEDC#32
  | 35 => 0xBFEBFA89#32
  | 36 => 0x3F9469B2#32
  | 37 => 0x3DF4168F#32
  | 38 => 0x3F100472#32
  | 39 => 0x404907AC#32
  | 40 => 0x3FC3F0A7#32
  | 41 => 0xBF83A218#32
  | 42 => 0x4003ECCA#32
  | 43 => 0x3F61A60C#32
  | 44 => 0xBF18CC71#32
  | 45 => 0xBD6B9053#32
  | 46 => 0x3FA11593#32
  | 47 => 0xBF06921C#32
  | 48 => 0x3DA405B4#32
  | 49 => 0x3E5282FD#32
  | 50 => 0xBFD6F75B#32
  | 51 => 0x4043622E#32
  | 52 => 0x3F61F837#32
  | 53 => 0xBFAF9C16#32
  | 54 => 0x3E89CDC0#32
  | 55 => 0xBF824E78#32
  | 56 => 0xBE8DEB26#32
  | 57 => 0x3F9D7892#32
  | 58 => 0x3EB932CE#32
  | 59 => 0x3F9D66B1#32
  | 60 => 0x3D944335#32
  | 61 => 0x3EF9C5FA#32
  | 62 => 0x3EAC6867#32
  | 63 => 0x3F1B9B05#32
  | 64 => 0x3EA9D235#32
  | 65 => 0xBFA9CC3E#32
  | 66 => 0x3FB8490C#32
  | 67 => 0x3F9F3CFB#32
  | 68 => 0x3F394090#32
  | 69 => 0x3F864C20#32
  | 70 => 0xBF57568E#32
  | 71 => 0xBE5B38A4#32
  | 72 => 0x3FC37D15#32
  | 73 => 0x3F5F318F#32
  | 74 => 0x4027F06A#32
  | 75 => 0xBF8BFA11#32
  | 76 => 0xBDE56A51#32
  | 77 => 0x3E93DCDB#32
  | 78 => 0xBF4C5E8B#32
  | 79 => 0x3D5F7846#32
  | 80 => 0xBEDBA98D#32
  | 81 => 0xBF0A044D#32
  | 82 => 0xBF0BD40D#32
  | 83 => 0x3FD17E3B#32
  | 84 => 0x3FFA3365#32
  | 85 => 0xBEF94D0B#32
  | 86 => 0xBF921710#32
  | 87 => 0x407DE189#32
  | 88 => 0xBF9A6522#32
  | 89 => 0x3FE795BE#32
  | 90 => 0x3FBAA5D6#32
  | 91 => 0x3FDC11C0#32
  | 92 => 0x3CD27EAC#32
  | 93 => 0xBEEE80C5#32
  | 94 => 0xBF4B92B0#32
  | 95 => 0x3F588B02#32
  | 96 => 0x3F0BBC08#32
  | 97 => 0xBE83FDB1#32
  | 98 => 0x3F13FBC1#32
  | 99 => 0xBF661ECC#32
  | 100 => 0x3FF0AF96#32
  | 101 => 0x3E4FA584#32
  | 102 => 0xBDDCF878#32
  | 103 => 0x3FCB5B6D#32
  | 104 => 0x3EA54D99#32
  | 105 => 0x4021454A#32
  | 106 => 0xBF1FE976#32
  | 107 => 0x3FEE67E1#32
  | 108 => 0x3D9F3A96#32
  | 109 => 0x3F2F2AD6#32
  | 110 => 0xBE8B8046#32
  | 111 => 0x3F870E1A#32
  | 112 => 0x3E4951F1#32
  | 113 => 0xBF25CA8D#32
  | 114 => 0x3F90E2E2#32
  | 115 => 0xBF2670C6#32
  | 116 => 0xBFACB00F#32
  | 117 => 0xBF314EFF#32
  | 118 => 0xBF218156#32
  | 119 => 0x3C69C1DF#32
  | 120 => 0xBF89238B#32
  | 121 => 0xBF5927CD#32
  | 122 => 0xBF9B0B87#32
  | 123 => 0xBF750230#32
  | 124 => 0x3F55A0B7#32
  | 125 => 0x3E48CD41#32
  | 126 => 0xBFA80308#32
  | 127 => 0xBFB544A7#32
  | _ => 0#32

noncomputable abbrev lit0t0_91 (i : Nat) : BitVec 32 := match i % 128 with
  | 0 => 0x40099E20#32
  | 1 => 0x3EDA8345#32
  | 2 => 0x3F712E9C#32
  | 3 => 0x3FF034CD#32
  | 4 => 0x3E48FDF7#32
  | 5 => 0xBD786459#32
  | 6 => 0xBEB2A38D#32
  | 7 => 0xBF5DFF3E#32
  | 8 => 0x3F59E6CD#32
  | 9 => 0x3E8BDD70#32
  | 10 => 0xBE8F5436#32
  | 11 => 0x40314B63#32
  | 12 => 0xBE5E87C6#32
  | 13 => 0xBE886B35#32
  | 14 => 0x3E2C0657#32
  | 15 => 0x3F897F4A#32
  | 16 => 0x3E1B9CB4#32
  | 17 => 0x3FA5FD7C#32
  | 18 => 0x3E991AFD#32
  | 19 => 0x3E7E3175#32
  | 20 => 0xBE444759#32
  | 21 => 0xBD64A371#32
  | 22 => 0x400425B5#32
  | 23 => 0xBFC5AB6B#32
  | 24 => 0xBE8EC213#32
  | 25 => 0xBF31B7F8#32
  | 26 => 0xBF9AD476#32
  | 27 => 0xBF192AC5#32
  | 28 => 0x3FC1C635#32
  | 29 => 0x3F26A896#32
  | 30 => 0x3FB6EB58#32
  | 31 => 0x4039A3EF#32
  | 32 => 0x401EC3E9#32
  | 33 => 0xBF9E82D3#32
  | 34 => 0xBEB44A3D#32
  | 35 => 0x3CA780ED#32
  | 36 => 0xBF02CC34#32
  | 37 => 0x3FA55FC5#32
  | 38 => 0xBEE33442#32
  | 39 => 0xBFB34B60#32
  | 40 => 0x400A40CB#32
  | 41 => 0x3FA0294A#32
  | 42 => 0xBF8CAFF3#32
  | 43 => 0x3FE45B1E#32
  | 44 => 0x4017F105#32
  | 45 => 0xBEB09BCC#32
  | 46 => 0x40688A31#32
  | 47 => 0x3FC8371E#32
  | 48 => 0x3EEC5D7D#32
  | 49 => 0x3F9AD55B#32
  | 50 => 0xBF7A9F1C#32
  | 51 => 0x40870BAF#32
  | 52 => 0xBF9DE5B6#32
  | 53 => 0xBE0D79F5#32
  | 54 => 0x4002D328#32
  | 55 => 0xBEFD686F#32
  | 56 => 0x3E083766#32
  | 57 => 0x3DDD2FBC#32
  | 58 => 0x3FA797E4#32
  | 59 => 0x40288482#32
  | 60 => 0x408D67D0#32
  | 61 => 0x3E059A9C#32
  | 62 => 0x4030053F#32
  | 63 => 0x3F4285F9#32
  | 64 => 0xBF899163#32
  | 65 => 0x3F6BF2A9#32
  | 66 => 0xBF4AC2AF#32
  | 67 => 0x3F3DBBEB#32
  | 68 => 0x3E1A2E88#32
  | 69 => 0xBF7BDB2E#32
  | 70 => 0x3FE916BD#32
  | 71 => 0x3FB0E9F8#32
  | 72 => 0x3F8D7104#32
  | 73 => 0x3F8E8BC3#32
  | 74 => 0x3F347D67#32
  | 75 => 0xBF8BE04D#32
  | 76 => 0xBF2C41EF#32
  | 77 => 0x3E9A92B2#32
  | 78 => 0x408CE2FC#32
  | 79 => 0x400035FD#32
  | 80 => 0x3BECB5D9#32
  | 81 => 0x3FB67240#32
  | 82 => 0xBF6A8276#32
  | 83 => 0x3F06302F#32
  | 84 => 0x3F32C7F5#32
  | 85 => 0x3F6972C4#32
  | 86 => 0xBFAD0387#32
  | 87 => 0x3FC15220#32
  | 88 => 0xBED8D115#32
  | 89 => 0x3F31599F#32
  | 90 => 0x3FE0F47C#32
  | 91 => 0x4040D27E#32
  | 92 => 0x3D910FA1#32
  | 93 => 0x3F3F021E#32
  | 94 => 0x3ED2E070#32
  | 95 => 0x400E53BC#32
  | 96 => 0x3F2E734F#32
  | 97 => 0x3F1B8CBF#32
  | 98 => 0xBD268F6F#32
  | 99 => 0x3FC18813#32
  | 100 => 0xBEDD0A43#32
  | 101 => 0x3E69666F#32
  | 102 => 0xBF8C4041#32
  | 103 => 0x3E89E45C#32
  | 104 => 0x3FA5E33E#32
  | 105 => 0x3E876CED#32
  | 106 => 0x3F48A0B8#32
  | 107 => 0x3E8F5C6E#32
  | 108 => 0x3FF41FF3#32
  | 109 => 0xBF355AFD#32
  | 110 => 0x3F295F46#32
  | 111 => 0xBF9C6C9E#32
  | 112 => 0x3E7C8723#32
  | 113 => 0x3FAF92D4#32
  | 114 => 0x3F2745F2#32
  | 115 => 0x3ECDE9E0#32
  | 116 => 0xBF92DE47#32
  | 117 => 0x3FD1FFBE#32
  | 118 => 0x3F139B62#32
  | 119 => 0x3E95AC83#32
  | 120 => 0x400D9A49#32
  | 121 => 0x3FCC970F#32
  | 122 => 0x40307B06#32
  | 123 => 0x3F7A2A2D#32
  | 124 => 0x40206DDE#32
  | 125 => 0xBF251666#32
  | 126 => 0x3F1FC83B#32
  | 127 => 0xBD4E0556#32
  | _ => 0#32

noncomputable abbrev lit0t0_92 (i : Nat) : BitVec 32 := match i % 128 with
  | 0 => 0xBF8CC3DB#32
  | 1 => 0x3FAA6E97#32
  | 2 => 0x3FB71231#32
  | 3 => 0x3FB10C7B#32
  | 4 => 0x3FC99B65#32
  | 5 => 0xBF4EC9D1#32
  | 6 => 0x4067EB0B#32
  | 7 => 0x401AC210#32
  | 8 => 0x3FC1CBEA#32
  | 9 => 0xBD3F8BF9#32
  | 10 => 0x3E2A6A31#32
  | 11 => 0x3F070D8F#32
  | 12 => 0xBF8BD055#32
  | 13 => 0xBCCAD8BE#32
  | 14 => 0x409E4DDC#32
  | 15 => 0xBF32284B#32
  | 16 => 0xBE6BEA6D#32
  | 17 => 0xBA1EB3B3#32
  | 18 => 0x3E6717C8#32
  | 19 => 0x3F92BB93#32
  | 20 => 0xBFB2A0D6#32
  | 21 => 0x3F415A72#32
  | 22 => 0x3FCFF89D#32
  | 23 => 0xBEA37676#32
  | 24 => 0x3F9C6F73#32
  | 25 => 0x3FCBBBB2#32
  | 26 => 0xBEF1C4D4#32
  | 27 => 0x3F135DD6#32
  | 28 => 0x3E8CC9C0#32
  | 29 => 0x3F341925#32
  | 30 => 0x401E98ED#32
  | 31 => 0xBF1E25BC#32
  | 32 => 0xBFAA9342#32
  | 33 => 0x3FD0C310#32
  | 34 => 0xBF30C665#32
  | 35 => 0x402B7483#32
  | 36 => 0x40831CE3#32
  | 37 => 0x404C2E1F#32
  | 38 => 0x3F3D3D2C#32
  | 39 => 0x401E35E3#32
  | 40 => 0x40186A56#32
  | 41 => 0xBF1BE6BE#32
  | 42 => 0xBF926F11#32
  | 43 => 0x406D8733#32
  | 44 => 0xBF5FCEDB#32
  | 45 => 0xBF4414E7#32
  | 46 => 0x3EE36B00#32
  | 47 => 0xBF36F88E#32
  | 48 => 0x3F69A0AA#32
  | 49 => 0x3EFD4F44#32
  | 50 => 0xBF44719D#32
  | 51 => 0xBEEBD81A#32
  | 52 => 0xBF4EF028#32
  | 53 => 0x401BABD3#32
  | 54 => 0xBF91304F#32
  | 55 => 0xBF50DD3B#32
  | 56 => 0x400D19FE#32
  | 57 => 0xBF7B2878#32
  | 58 => 0x3EB183C1#32
  | 59 => 0x402BB17C#32
  | 60 => 0xBE9C5E78#32
  | 61 => 0xBEB7AAA6#32
  | 62 => 0x400C258A#32
  | 63 => 0x3D796C62#32
  | 64 => 0x408AFBEE#32
  | 65 => 0x40836846#32
  | 66 => 0x3F9CB16C#32
  | 67 => 0x3F361245#32
  | 68 => 0x403E18DC#32
  | 69 => 0xBF6F0EFE#32
  | 70 => 0x403E3EA9#32
  | 71 => 0xBF2DC726#32
  | 72 => 0x3FF0DC1F#32
  | 73 => 0x3F6E69E0#32
  | 74 => 0x40497D7C#32
  | 75 => 0x3FB72A37#32
  | 76 => 0x3F98A96D#32
  | 77 => 0x3F4F888A#32
  | 78 => 0x3E135945#32
  | 79 => 0x40E5C791#32
  | 80 => 0xBD85D59B#32
  | 81 => 0x4034C537#32
  | 82 => 0x3EBAF9F4#32
  | 83 => 0x401F6D1C#32
  | 84 => 0x3F2616AD#32
  | 85 => 0x3F6B99BF#32
  | 86 => 0x3F980218#32
  | 87 => 0xBDDBEC51#32
  | 88 => 0x3E9E6D0B#32
  | 89 => 0x3E339211#32
  | 90 => 0x40417E2E#32
  | 91 => 0x3FDF2067#32
  | 92 => 0x404DAD00#32
  | 93 => 0xBF4C4468#32
  | 94 => 0xBF08C39A#32
  | 95 => 0x3E98154B#32
  | 96 => 0x3F7BE408#32
  | 97 => 0x3FBF6770#32
  | 98 => 0x3D05DFE6#32
  | 99 => 0x40766FEB#32
  | 100 => 0x3FFEE6C9#32
  | 101 => 0x3E6BC267#32
  | 102 => 0x3FA930B8#32
  | 103 => 0x3FB585C5#32
  | 104 => 0x3FB10DA5#32
  | 105 => 0x3F94EB1A#32
  | 106 => 0xBEE7BF61#32
  | 107 => 0x3ECEB54E#32
  | 108 => 0xBF780F9B#32
  | 109 => 0xBEACC408#32
  | 110 => 0xBF4FFC80#32
  | 111 => 0xBF9D33FE#32
  | 112 => 0xBFD1EDE5#32
  | 113 => 0xBF82D987#32
  | 114 => 0x3F71A02E#32
  | 115 => 0xBE804BE6#32
  | 116 => 0x3EC502CE#32
  | 117 => 0x3E922EB8#32
  | 118 => 0x3EF23C6D#32
  | 119 => 0x3FC51891#32
  | 120 => 0x3F39E7E1#32
  | 121 => 0x3CD93326#32
  | 122 => 0x3ED0887E#32
  | 123 => 0x3EABA8B1#32
  | 124 => 0x3FBAE28F#32
  | 125 => 0xBF2564E6#32
  | 126 => 0x401E1780#32
  | 127 => 0xBEABFA93#32
  | _ => 0#32

noncomputable abbrev lit0t0_93 (i : Nat) : BitVec 32 := match i % 128 with
  | 0 => 0xBFBACCEC#32
  | 1 => 0x404E8633#32
  | 2 => 0x3F8D0F9E#32
  | 3 => 0xBE949D15#32
  | 4 => 0x407CE05D#32
  | 5 => 0x3DCAD8A2#32
  | 6 => 0x3FC110E7#32
  | 7 => 0x3EC75D65#32
  | 8 => 0x3F5F38C6#32
  | 9 => 0x3F1EE725#32
  | 10 => 0xBE825EE9#32
  | 11 => 0xBF916B68#32
  | 12 => 0x3F89D85F#32
  | 13 => 0xBD872EBE#32
  | 14 => 0x3F614BB8#32
  | 15 => 0x3FE012EA#32
  | 16 => 0xBE9FFA33#32
  | 17 => 0x3EA25D8B#32
  | 18 => 0xBF30AFC6#32
  | 19 => 0x3FC5598A#32
  | 20 => 0x3F188837#32
  | 21 => 0xBCE48C33#32
  | 22 => 0xBE9016CC#32
  | 23 => 0x3F4E7F31#32
  | 24 => 0xBEB1D239#32
  | 25 => 0xBE3623E3#32
  | 26 => 0xBF31FA00#32
  | 27 => 0x3F764E28#32
  | 28 => 0xBDC6E5C7#32
  | 29 => 0xBF3002BA#32
  | 30 => 0x402707BC#32
  | 31 => 0x402C4654#32
  | 32 => 0x3FD71743#32
  | 33 => 0xBF0EE912#32
  | 34 => 0x3EBD133F#32
  | 35 => 0x3FABCD37#32
  | 36 => 0x3F05C135#32
  | 37 => 0x3ED269A4#32
  | 38 => 0xBF37CF2D#32
  | 39 => 0x3F676665#32
  | 40 => 0xBF5C9123#32
  | 41 => 0x3EE39833#32
  | 42 => 0x406C65A5#32
  | 43 => 0x4021D103#32
  | 44 => 0x401CF622#32
  | 45 => 0x3EE87780#32
  | 46 => 0x3F6351E4#32
  | 47 => 0x3EA8FFF1#32
  | 48 => 0xBD594025#32
  | 49 => 0xBF4BAC62#32
  | 50 => 0x400147A0#32
  | 51 => 0xBF847447#32
  | 52 => 0xBF96CBF9#32
  | 53 => 0xBE07E727#32
  | 54 => 0x3F47971F#32
  | 55 => 0xBF0C734E#32
  | 56 => 0x3ED432B4#32
  | 57 => 0x3FD730FB#32
  | 58 => 0xBD3A0590#32
  | 59 => 0x3FF6370F#32
  | 60 => 0x3F2088CC#32
  | 61 => 0x403F6188#32
  | 62 => 0x401D9820#32
  | 63 => 0xBEF4E1B7#32
  | 64 => 0x3FFE0A1C#32
  | 65 => 0xBE04AB6C#32
  | 66 => 0x4007EBC3#32
  | 67 => 0xBF397EBB#32
  | 68 => 0x3F932EFD#32
  | 69 => 0x3F616DF9#32
  | 70 => 0x3F93695A#32
  | 71 => 0xBF0D798A#32
  | 72 => 0xBE94DC3B#32
  | 73 => 0x3F4FB6FB#32
  | 74 => 0x3F622930#32
  | 75 => 0x3FA704C2#32
  | 76 => 0x400DFD58#32
  | 77 => 0x3F89D743#32
  | 78 => 0x3EF77EF2#32
  | 79 => 0x3EC26A56#32
  | 80 => 0x3F73CC8B#32
  | 81 => 0xBF4D0F7F#32
  | 82 => 0x3FF41E65#32
  | 83 => 0xBF246FFB#32
  | 84 => 0x3E3718CA#32
  | 85 => 0xBF7A25D1#32
  | 86 => 0xBF2ACC98#32
  | 87 => 0xBF6B83A4#32
  | 88 => 0xBF028A2E#32
  | 89 => 0x3F64E8DA#32
  | 90 => 0x3F942354#32
  | 91 => 0x3F0876B5#32
  | 92 => 0x40236443#32
  | 93 => 0x3EF0824C#32
  | 94 => 0x3FC68331#32
  | 95 => 0x3E908CEB#32
  | 96 => 0xBF1CF424#32
  | 97 => 0x3F3F7E2C#32
  | 98 => 0x40496F93#32
  | 99 => 0x3F8445B4#32
  | 100 => 0x3F7A356C#32
  | 101 => 0xBDCDEABA#32
  | 102 => 0x400BCB9F#32
  | 103 => 0x3E3AA327#32
  | 104 => 0xBE1D0A58#32
  | 105 => 0x407AE12A#32
  | 106 => 0x3D5DAF8F#32
  | 107 => 0x3FB63068#32
  | 108 => 0x3FB8C967#32
  | 109 => 0x3FF58351#32
  | 110 => 0x4007441B#32
  | 111 => 0x3F943D98#32
  | 112 => 0x3F57B81A#32
  | 113 => 0x3F4E43F8#32
  | 114 => 0xBCAED57A#32
  | 115 => 0xBF8A4218#32
  | 116 => 0xBEF7DDE0#32
  | 117 => 0xBF7E6DC1#32
  | 118 => 0x3D1B851A#32
  | 119 => 0xBF5855D8#32
  | 120 => 0x4048B34E#32
  | 121 => 0xBF152D03#32
  | 122 => 0x3F3BD47C#32
  | 123 => 0xBDEE7388#32
  | 124 => 0xBE11C702#32
  | 125 => 0xBF494AD7#32
  | 126 => 0x3F998AB1#32
  | 127 => 0x3F37CEBC#32
  | _ => 0#32

noncomputable abbrev lit0t0_94 (i : Nat) : BitVec 32 := match i % 128 with
  | 0 => 0xBE566A91#32
  | 1 => 0x4010EC75#32
  | 2 => 0x3F1D4359#32
  | 3 => 0x3F9F64F6#32
  | 4 => 0x3EE8A25B#32
  | 5 => 0x40116FD1#32
  | 6 => 0xBFEA34C8#32
  | 7 => 0x3DF66075#32
  | 8 => 0xBF61987C#32
  | 9 => 0xBF4F3F9E#32
  | 10 => 0xBF4D10BD#32
  | 11 => 0xBF3BCBE7#32
  | 12 => 0xBF5CB41A#32
  | 13 => 0x3F1CEF80#32
  | 14 => 0xBE9CE9D3#32
  | 15 => 0x3FAB3EC8#32
  | 16 => 0x3FE15CF4#32
  | 17 => 0x3E62211E#32
  | 18 => 0xBE7BA12F#32
  | 19 => 0x3E0FCE6C#32
  | 20 => 0xBFD0CE19#32
  | 21 => 0x3FA33E32#32
  | 22 => 0xBF599E87#32
  | 23 => 0x40043CCB#32
  | 24 => 0x3FED244A#32
  | 25 => 0x3FF481F2#32
  | 26 => 0x4003A64E#32
  | 27 => 0x403CEB76#32
  | 28 => 0xBF098983#32
  | 29 => 0xBE94F46F#32
  | 30 => 0x3F0B69F4#32
  | 31 => 0x3FC898A4#32
  | 32 => 0xBFB8334E#32
  | 33 => 0xBE358ABD#32
  | 34 => 0xBF3C5BBC#32
  | 35 => 0x3FD6B72E#32
  | 36 => 0xBEAB8A99#32
  | 37 => 0xBF3EC61C#32
  | 38 => 0x3F0DDE1A#32
  | 39 => 0xBEA98086#32
  | 40 => 0x3DE1D31F#32
  | 41 => 0xBEF0FC1C#32
  | 42 => 0x3FB98DA2#32
  | 43 => 0xBF6622BC#32
  | 44 => 0x3F21B618#32
  | 45 => 0x3F96BD25#32
  | 46 => 0x3F6A30DE#32
  | 47 => 0x3FD15396#32
  | 48 => 0xBFB1142A#32
  | 49 => 0x3F2DF9FD#32
  | 50 => 0xBE0B9305#32
  | 51 => 0x40061CD3#32
  | 52 => 0x3DD183B8#32
  | 53 => 0xBE14FD86#32
  | 54 => 0x3FC7742D#32
  | 55 => 0xBE16D1E7#32
  | 56 => 0x3EA8083A#32
  | 57 => 0xBDC3EA82#32
  | 58 => 0x3FF4EC6A#32
  | 59 => 0x3FCC1EE1#32
  | 60 => 0x3F219331#32
  | 61 => 0x3F4A0CB9#32
  | 62 => 0x40594115#32
  | 63 => 0x403B17EC#32
  | 64 => 0x3FC05A18#32
  | 65 => 0x40220F8F#32
  | 66 => 0x3F9E0C96#32
  | 67 => 0x3DD49C3A#32
  | 68 => 0xBE5E4AB0#32
  | 69 => 0x3DEB7D62#32
  | 70 => 0x3FD2E0C4#32
  | 71 => 0x3F1D950D#32
  | 72 => 0xBE2F5792#32
  | 73 => 0x400D4304#32
  | 74 => 0x408C11F1#32
  | 75 => 0x3FDC6DE8#32
  | 76 => 0xBF6E50E3#32
  | 77 => 0x405F4613#32
  | 78 => 0xBE86308E#32
  | 79 => 0x3EB9ACDF#32
  | 80 => 0xBF6DCFE2#32
  | 81 => 0x3EC0C50C#32
  | 82 => 0xBE8E9394#32
  | 83 => 0xBFB4E51B#32
  | 84 => 0xC00F2EB6#32
  | 85 => 0x3E16EED1#32
  | 86 => 0x3E8787CF#32
  | 87 => 0xBEA2674C#32
  | 88 => 0x3F5217D3#32
  | 89 => 0x4003C564#32
  | 90 => 0x408144B0#32
  | 91 => 0x3F5EA270#32
  | 92 => 0xBEA1AA16#32
  | 93 => 0x3ECF70AF#32
  | 94 => 0x3FE511C4#32
  | 95 => 0x3ED90A8A#32
  | 96 => 0x3F15D27B#32
  | 97 => 0x3FAEB86D#32
  | 98 => 0xBF325F66#32
  | 99 => 0x3FA1E17F#32
  | 100 => 0x3FCED066#32
  | 101 => 0x3E852194#32
  | 102 => 0x3E5F9614#32
  | 103 => 0x4025828A#32
  | 104 => 0x3E8BDBE5#32
  | 105 => 0xBEACDCCE#32
  | 106 => 0xBD57D86C#32
  | 107 => 0x3F29CA07#32
  | 108 => 0x3F1FF874#32
  | 109 => 0x3E2A9D3E#32
  | 110 => 0x3FC60885#32
  | 111 => 0xBD7203D0#32
  | 112 => 0xBF314889#32
  | 113 => 0x3F44E886#32
  | 114 => 0x409E0E26#32
  | 115 => 0xBEEC04C0#32
  | 116 => 0xBE27E8CC#32
  | 117 => 0xBF9D10B1#32
  | 118 => 0x3EC454C6#32
  | 119 => 0xBF361AFE#32
  | 120 => 0xBF43E154#32
  | 121 => 0xBF1CEB5A#32
  | 122 => 0x3F24FC21#32
  | 123 => 0x3F39C919#32
  | 124 => 0x3F3B1B7F#32
  | 125 => 0x3F9EC3A4#32
  | 126 => 0xBFCFD5A1#32
  | 127 => 0x3F12049F#32
  | _ => 0#32

noncomputable abbrev lit0t0_95 (i : Nat) : BitVec 32 := match i % 128 with
  | 0 => 0x3F09AABE#32
  | 1 => 0x40010750#32
  | 2 => 0x3FA60D22#32
  | 3 => 0x3F7436E4#32
  | 4 => 0x3F8842E0#32
  | 5 => 0xBFD9B74C#32
  | 6 => 0x3FA0A5EA#32
  | 7 => 0xBCFF8DA1#32
  | 8 => 0x3F0EE8C7#32
  | 9 => 0x3E10B2E0#32
  | 10 => 0x3FE8ED64#32
  | 11 => 0x3FD0EF43#32
  | 12 => 0x3F0414BB#32
  | 13 => 0x3F8AD0CB#32
  | 14 => 0xBDE29653#32
  | 15 => 0xBEF62EE2#32
  | 16 => 0xBE3D77DE#32
  | 17 => 0x3F7413CE#32
  | 18 => 0x3FF59CC4#32
  | 19 => 0x3EEACC43#32
  | 20 => 0xBF8BC5E0#32
  | 21 => 0x3EC35597#32
  | 22 => 0x3EF29A4A#32
  | 23 => 0x3FBD1318#32
  | 24 => 0x3EE15F98#32
  | 25 => 0x3EE16027#32
  | 26 => 0xBF783DF0#32
  | 27 => 0x3F24C2DB#32
  | 28 => 0x3F949516#32
  | 29 => 0x3FE07438#32
  | 30 => 0x3F9FA74C#32
  | 31 => 0xBED0B695#32
  | 32 => 0xBF70E258#32
  | 33 => 0xBFA62117#32
  | 34 => 0xBF9231F7#32
  | 35 => 0x3F9BF290#32
  | 36 => 0xBEF6F02A#32
  | 37 => 0x4054F5F5#32
  | 38 => 0x3F55D288#32
  | 39 => 0x3F8BB2C8#32
  | 40 => 0x3FD4DC2C#32
  | 41 => 0x3E354E88#32
  | 42 => 0x3F3CB4F1#32
  | 43 => 0xBF931B67#32
  | 44 => 0x3FED3621#32
  | 45 => 0x3F96AA91#32
  | 46 => 0x3FF82028#32
  | 47 => 0xBEE56ED3#32
  | 48 => 0x3FB245EC#32
  | 49 => 0x3FB3FD55#32
  | 50 => 0x3F59D25A#32
  | 51 => 0x4001EDF9#32
  | 52 => 0xBEE98005#32
  | 53 => 0x3BB3AADE#32
  | 54 => 0x3F20D9BD#32
  | 55 => 0x4084F403#32
  | 56 => 0xBFAFE08E#32
  | 57 => 0x405FB14A#32
  | 58 => 0x3FBAB38C#32
  | 59 => 0xBEEB41A3#32
  | 60 => 0x3EF1F126#32
  | 61 => 0xBEA5881C#32
  | 62 => 0x4078B343#32
  | 63 => 0x3DCBF70E#32
  | 64 => 0x3D50E7C8#32
  | 65 => 0x403EFAAE#32
  | 66 => 0x3FED0502#32
  | 67 => 0xBF412163#32
  | 68 => 0x3EF8F8EC#32
  | 69 => 0x3FC2618F#32
  | 70 => 0x3F47DE35#32
  | 71 => 0x405AB742#32
  | 72 => 0x3EFDF492#32
  | 73 => 0xBF7813FC#32
  | 74 => 0x4078A84A#32
  | 75 => 0xB83EFEE3#32
  | 76 => 0xBF5C8489#32
  | 77 => 0xBE99F253#32
  | 78 => 0xBFB318CE#32
  | 79 => 0xBF28567A#32
  | 80 => 0x4032E912#32
  | 81 => 0x40B7CB1F#32
  | 82 => 0x3F6451B3#32
  | 83 => 0xBEF195A8#32
  | 84 => 0x3F15C555#32
  | 85 => 0xBF536FAA#32
  | 86 => 0x3F372AFC#32
  | 87 => 0x3F568BE3#32
  | 88 => 0x3E63DACA#32
  | 89 => 0xBD907017#32
  | 90 => 0xBF4DC416#32
  | 91 => 0x3FE919BF#32
  | 92 => 0x407A2391#32
  | 93 => 0xBE661E9D#32
  | 94 => 0x3F384D0E#32
  | 95 => 0x3DFED6FE#32
  | 96 => 0x3E0B824A#32
  | 97 => 0x3DEDB2DC#32
  | 98 => 0xBE21F155#32
  | 99 => 0x3D957621#32
  | 100 => 0x3F660FC4#32
  | 101 => 0xBD1F01D3#32
  | 102 => 0x3F3C36D5#32
  | 103 => 0x3F3663D9#32
  | 104 => 0xBEBF56EB#32
  | 105 => 0x3DCD0A19#32
  | 106 => 0x3F012FFC#32
  | 107 => 0x40825123#32
  | 108 => 0xBF69480E#32
  | 109 => 0x3EC4A72D#32
  | 110 => 0x3FFFC398#32
  | 111 => 0xBF34772E#32
  | 112 => 0x402BDE32#32
  | 113 => 0x3F341FEE#32
  | 114 => 0x3F4536D9#32
  | 115 => 0x3E127CE0#32
  | 116 => 0x3E0374DB#32
  | 117 => 0xBE1B7B6C#32
  | 118 => 0xBFA94FF2#32
  | 119 => 0xBF1E2851#32
  | 120 => 0x3FEE7BF4#32
  | 121 => 0x3F6D7E6A#32
  | 122 => 0x3E7C0E51#32
  | 123 => 0xBF3EE566#32
  | 124 => 0xBF6220E2#32
  | 125 => 0x3F3B9C0E#32
  | 126 => 0xBDC6035F#32
  | 127 => 0x3F7721B8#32
  | _ => 0#32

noncomputable abbrev lit0t0_96 (i : Nat) : BitVec 32 := match i % 128 with
  | 0 => 0x3EBC118A#32
  | 1 => 0x3ECB70A2#32
  | 2 => 0xBFA6C0B2#32
  | 3 => 0xBEE431B3#32
  | 4 => 0xBF7B3984#32
  | 5 => 0x40184635#32
  | 6 => 0x3FF07A06#32
  | 7 => 0x3E1BE089#32
  | 8 => 0xBF0B2994#32
  | 9 => 0x3F2CEB27#32
  | 10 => 0xBEB28757#32
  | 11 => 0xBF1A424C#32
  | 12 => 0xBF085C42#32
  | 13 => 0xBE8EEEFC#32
  | 14 => 0x3F4F2066#32
  | 15 => 0x40DD6926#32
  | 16 => 0x3C01CD48#32
  | 17 => 0xBE3FE311#32
  | 18 => 0x408B88FC#32
  | 19 => 0x4009609C#32
  | 20 => 0x3FD39D7C#32
  | 21 => 0x4038DE1A#32
  | 22 => 0xBE9BCF96#32
  | 23 => 0x3D32376C#32
  | 24 => 0x3F66A8E3#32
  | 25 => 0x3FDA2230#32
  | 26 => 0x3F67E4BE#32
  | 27 => 0x3FB47BD7#32
  | 28 => 0x3FCAB053#32
  | 29 => 0x3F4F3FDD#32
  | 30 => 0x3F65DD70#32
  | 31 => 0xBEADA78A#32
  | 32 => 0x3E590994#32
  | 33 => 0x3D30D15C#32
  | 34 => 0x3F3B5A83#32
  | 35 => 0x3FACB39B#32
  | 36 => 0xBF1E35C1#32
  | 37 => 0x40216819#32
  | 38 => 0x3F765648#32
  | 39 => 0x401DF964#32
  | 40 => 0xBEDEB218#32
  | 41 => 0xBF61C119#32
  | 42 => 0xBEA2E714#32
  | 43 => 0xBF99B5DD#32
  | 44 => 0xBF8B28F9#32
  | 45 => 0x3DBEA6D7#32
  | 46 => 0xBEECFA8A#32
  | 47 => 0xBFBCAFCF#32
  | 48 => 0x40190B47#32
  | 49 => 0x3DB66565#32
  | 50 => 0x3F8C5068#32
  | 51 => 0x3F5F153D#32
  | 52 => 0xBE34B5D7#32
  | 53 => 0x3F6FD6EF#32
  | 54 => 0x3F5940DD#32
  | 55 => 0xBF791174#32
  | 56 => 0xBF309018#32
  | 57 => 0x3FA9994E#32
  | 58 => 0x40348C60#32
  | 59 => 0xBDE56584#32
  | 60 => 0x3EC2A944#32
  | 61 => 0x403C2F4B#32
  | 62 => 0xBF25749A#32
  | 63 => 0x3F65EE87#32
  | 64 => 0x3F66B93A#32
  | 65 => 0x3EA58471#32
  | 66 => 0x3F8E8DBE#32
  | 67 => 0xBE8E4920#32
  | 68 => 0xBF521E57#32
  | 69 => 0xBF9B9BF1#32
  | 70 => 0xBD9A685A#32
  | 71 => 0xBE29DAF9#32
  | 72 => 0xBF55E292#32
  | 73 => 0xBD86EBFB#32
  | 74 => 0x4018D0B0#32
  | 75 => 0x3FC5C453#32
  | 76 => 0x3FCCF1BE#32
  | 77 => 0x3FA35AFB#32
  | 78 => 0xBEEA6331#32
  | 79 => 0xBE6857FE#32
  | 80 => 0xBD637E59#32
  | 81 => 0x3EB9AB10#32
  | 82 => 0xBDD230C0#32
  | 83 => 0x3CC5D210#32
  | 84 => 0xBF8DFF71#32
  | 85 => 0x3EF35570#32
  | 86 => 0x3E951278#32
  | 87 => 0xBED874F9#32
  | 88 => 0xBF237075#32
  | 89 => 0x3FD79CEA#32
  | 90 => 0x3E6F2E71#32
  | 91 => 0x3FABD084#32
  | 92 => 0x3F04E7B8#32
  | 93 => 0x3F75362C#32
  | 94 => 0x4061F60D#32
  | 95 => 0x3F8B8E77#32
  | 96 => 0xBCA82767#32
  | 97 => 0xBEE5F0DA#32
  | 98 => 0x3FA419F3#32
  | 99 => 0x3FD829AC#32
  | 100 => 0x4038B5DB#32
  | 101 => 0x40008BA2#32
  | 102 => 0x40149812#32
  | 103 => 0x3F90FC22#32
  | 104 => 0x3F724508#32
  | 105 => 0xBECB3917#32
  | 106 => 0x3F09B8E5#32
  | 107 => 0x3F6AEEB1#32
  | 108 => 0x3EBEF536#32
  | 109 => 0xBF1137B9#32
  | 110 => 0x3F9A49BC#32
  | 111 => 0xBE0B2B38#32
  | 112 => 0x3E4B1B40#32
  | 113 => 0x3FC355B8#32
  | 114 => 0x3DB36AE6#32
  | 115 => 0xBF7A0A41#32
  | 116 => 0x3FAB37F8#32
  | 117 => 0xBF1121FE#32
  | 118 => 0x3F3224F9#32
  | 119 => 0xBF353A0B#32
  | 120 => 0xBF28D8C9#32
  | 121 => 0x3F0C1FF3#32
  | 122 => 0x3D9EFEF0#32
  | 123 => 0x3FAD093B#32
  | 124 => 0x3F1FF502#32
  | 125 => 0x401B0019#32
  | 126 => 0x3F754334#32
  | 127 => 0xBD2D8C96#32
  | _ => 0#32

noncomputable abbrev lit0t0_97 (i : Nat) : BitVec 32 := match i % 128 with
  | 0 => 0x3F4D118B#32
  | 1 => 0x3FE42C98#32
  | 2 => 0x3F038B7E#32
  | 3 => 0xBF2E2214#32
  | 4 => 0xBF2BA528#32
  | 5 => 0x3FD7165A#32
  | 6 => 0x3FC762D7#32
  | 7 => 0x3F066588#32
  | 8 => 0x3DCA4E7F#32
  | 9 => 0x4051534A#32
  | 10 => 0x3EB4F01D#32
  | 11 => 0x3FB0E9F2#32
  | 12 => 0xBF666694#32
  | 13 => 0x4083E945#32
  | 14 => 0x3F11B7AF#32
  | 15 => 0xBF149B52#32
  | 16 => 0xBE5D23CB#32
  | 17 => 0xBFDD836A#32
  | 18 => 0x3FF7FBD2#32
  | 19 => 0x3F3E8A9B#32
  | 20 => 0xBF3C9309#32
  | 21 => 0x3F2624A5#32
  | 22 => 0xBEAFD86F#32
  | 23 => 0x401D0BCF#32
  | 24 => 0x3FFCDFF7#32
  | 25 => 0x3DD9C79A#32
  | 26 => 0xBF7DD636#32
  | 27 => 0xBE5CCEDF#32
  | 28 => 0x3F4C5469#32
  | 29 => 0x3EAE2691#32
  | 30 => 0x405A9F47#32
  | 31 => 0x3FCEBF36#32
  | 32 => 0x3FFBA86A#32
  | 33 => 0x3F6FA00B#32
  | 34 => 0xBF199C46#32
  | 35 => 0x40216518#32
  | 36 => 0x3F8540CF#32
  | 37 => 0xBEEBA224#32
  | 38 => 0xBFD71426#32
  | 39 => 0xBF676F1B#32
  | 40 => 0x3E8D16CA#32
  | 41 => 0x3E5EDFF8#32
  | 42 => 0x3F8BDAA4#32
  | 43 => 0x3B414EEA#32
  | 44 => 0x3F2E299E#32
  | 45 => 0xBF46F304#32
  | 46 => 0x3EDB2B4A#32
  | 47 => 0xBF01733F#32
  | 48 => 0x3DDF7691#32
  | 49 => 0x3F310CC4#32
  | 50 => 0x3DCE51B7#32
  | 51 => 0xBF4B7AF2#32
  | 52 => 0x3F25540E#32
  | 53 => 0x3FB621FC#32
  | 54 => 0x3E06E9BE#32
  | 55 => 0x3E24F88D#32
  | 56 => 0x3FB71AD7#32
  | 57 => 0xBEDA9E99#32
  | 58 => 0x4009E959#32
  | 59 => 0x3FA678A0#32
  | 60 => 0x3F637EC6#32
  | 61 => 0xBFEBE7B1#32
  | 62 => 0x3F36970E#32
  | 63 => 0x3EA9AE04#32
  | 64 => 0x3DD78CC4#32
  | 65 => 0xBF1E2DD6#32
  | 66 => 0x40458851#32
  | 67 => 0xBEE5DF82#32
  | 68 => 0x3ED05F9F#32
  | 69 => 0x3FA04703#32
  | 70 => 0xBF1A8C44#32
  | 71 => 0xBF210546#32
  | 72 => 0x3EE81B42#32
  | 73 => 0xBE62F1DD#32
  | 74 => 0xBF4BAB48#32
  | 75 => 0x400B36AC#32
  | 76 => 0xBE48ECCD#32
  | 77 => 0xBF3C8912#32
  | 78 => 0x3FEA813E#32
  | 79 => 0x40019F1A#32
  | 80 => 0x3EADC69E#32
  | 81 => 0xBF46BA88#32
  | 82 => 0xBF7B36F2#32
  | 83 => 0x3F319DFA#32
  | 84 => 0x3FA94D25#32
  | 85 => 0xBD8A14A0#32
  | 86 => 0xBF60D711#32
  | 87 => 0x3F1FF934#32
  | 88 => 0xBDFD0C95#32
  | 89 => 0xBF0FDBFC#32
  | 90 => 0x3F4C3DE8#32
  | 91 => 0x3F88FA07#32
  | 92 => 0x3D9E5332#32
  | 93 => 0x3E1D1E04#32
  | 94 => 0xBDFAA474#32
  | 95 => 0x3FD62BE2#32
  | 96 => 0x3F46C26A#32
  | 97 => 0x3EBF6969#32
  | 98 => 0x3F9ACAAA#32
  | 99 => 0x3E6CFBF0#32
  | 100 => 0x3E396CE4#32
  | 101 => 0x3EE73272#32
  | 102 => 0xBF9291FB#32
  | 103 => 0x40393730#32
  | 104 => 0xBEF0B658#32
  | 105 => 0x4029CC37#32
  | 106 => 0x3F4953BB#32
  | 107 => 0x3F8B53CC#32
  | 108 => 0xBE061FF6#32
  | 109 => 0x3FA8C17E#32
  | 110 => 0xBF59C794#32
  | 111 => 0x3F601FDA#32
  | 112 => 0x3F1C4098#32
  | 113 => 0xBF6798B3#32
  | 114 => 0x3F93A15F#32
  | 115 => 0x400B4DD8#32
  | 116 => 0xBF91AD97#32
  | 117 => 0x3C1760FA#32
  | 118 => 0x3F01CDCD#32
  | 119 => 0x4074C406#32
  | 120 => 0xBFA7B2F3#32
  | 121 => 0x3FCF10E6#32
  | 122 => 0xBF3404A2#32
  | 123 => 0x3E4E6060#32
  | 124 => 0xBE793CD8#32
  | 125 => 0xBFA6CAB7#32
  | 126 => 0xBF84BCE8#32
  | 127 => 0x3F234655#32
  | _ => 0#32

noncomputable abbrev lit0t0_98 (i : Nat) : BitVec 32 := match i % 128 with
  | 0 => 0x3E3BC4E9#32
  | 1 => 0x3EB4DBB2#32
  | 2 => 0x3E820D87#32
  | 3 => 0xBF678062#32
  | 4 => 0x3F384623#32
  | 5 => 0xBD4F3AF1#32
  | 6 => 0x3F8B61A9#32
  | 7 => 0xBF615EAE#32
  | 8 => 0xBEF50382#32
  | 9 => 0x4007D04D#32
  | 10 => 0xBE4DF0A5#32
  | 11 => 0xBEF071DC#32
  | 12 => 0x406BDCFC#32
  | 13 => 0x3FE22CD4#32
  | 14 => 0xBE663507#32
  | 15 => 0x3F889DD4#32
  | 16 => 0xBE3D18B6#32
  | 17 => 0x3D3A5F70#32
  | 18 => 0xBE0989A8#32
  | 19 => 0x3E737430#32
  | 20 => 0xBEE9E6CD#32
  | 21 => 0xBEAED932#32
  | 22 => 0x3F6C2ED6#32
  | 23 => 0x3FEACC92#32
  | 24 => 0x3DEC184B#32
  | 25 => 0xBFD43F50#32
  | 26 => 0x3E399040#32
  | 27 => 0x3F1C107E#32
  | 28 => 0xBF9C9755#32
  | 29 => 0xBFB972D3#32
  | 30 => 0x409A7156#32
  | 31 => 0x3D1B364B#32
  | 32 => 0x3FEE1088#32
  | 33 => 0x3E3F5A3A#32
  | 34 => 0x3FBEEA14#32
  | 35 => 0xBFBE93CD#32
  | 36 => 0x3D06CC26#32
  | 37 => 0x400080F3#32
  | 38 => 0xBF9570A4#32
  | 39 => 0x3FBC3E1F#32
  | 40 => 0x3FC65738#32
  | 41 => 0x3E558A8E#32
  | 42 => 0x3F10EB46#32
  | 43 => 0xBB7BC40A#32
  | 44 => 0xBE417355#32
  | 45 => 0x3FAA5862#32
  | 46 => 0x3D1F1004#32
  | 47 => 0x3F32A2D8#32
  | 48 => 0x3D8B83BC#32
  | 49 => 0x3E660404#32
  | 50 => 0x3FAC2DE9#32
  | 51 => 0xBF46BCEF#32
  | 52 => 0xBEE5FFF3#32
  | 53 => 0x3EDA5C0D#32
  | 54 => 0x4021B612#32
  | 55 => 0xBCC142CB#32
  | 56 => 0xBF2DE7D4#32
  | 57 => 0xBDEF498D#32
  | 58 => 0xBE817D0F#32
  | 59 => 0xBF8353B3#32
  | 60 => 0xBF1A7203#32
  | 61 => 0x3ED5AB5B#32
  | 62 => 0xBF94A264#32
  | 63 => 0x3F25AE21#32
  | 64 => 0x3ECF342A#32
  | 65 => 0xBE1A1B1A#32
  | 66 => 0x3FD29A0F#32
  | 67 => 0x404CC3B6#32
  | 68 => 0xBF3FA121#32
  | 69 => 0xBC9E2F00#32
  | 70 => 0x3F50E9B7#32
  | 71 => 0x3FBCA0D4#32
  | 72 => 0x3DD9BAF4#32
  | 73 => 0x403B0952#32
  | 74 => 0x3F5E08A6#32
  | 75 => 0x3F478724#32
  | 76 => 0x4065AA12#32
  | 77 => 0x3F0BDF8A#32
  | 78 => 0x3F92B17A#32
  | 79 => 0x3F1E33EF#32
  | 80 => 0x3F5F3A46#32
  | 81 => 0x3DF903F0#32
  | 82 => 0xBF23264D#32
  | 83 => 0xBF5CAC7F#32
  | 84 => 0x3F0A7E1E#32
  | 85 => 0x3D28E6CD#32
  | 86 => 0xBE336B5F#32
  | 87 => 0x3E85E92E#32
  | 88 => 0x4058D207#32
  | 89 => 0x40444A3C#32
  | 90 => 0x3E9088C6#32
  | 91 => 0x3E4CD9B7#32
  | 92 => 0xBF564DF9#32
  | 93 => 0x3F4FEEB1#32
  | 94 => 0x3F2E85D4#32
  | 95 => 0x3F6B6DCC#32
  | 96 => 0xBF1DF7C6#32
  | 97 => 0xBE91B8C1#32
  | 98 => 0x401A4A5F#32
  | 99 => 0x3F2878E0#32
  | 100 => 0x402C7035#32
  | 101 => 0x3D7CE3DA#32
  | 102 => 0xBD3E5364#32
  | 103 => 0x3EDC1388#32
  | 104 => 0xBECFB444#32
  | 105 => 0x3F527433#32
  | 106 => 0x3FCAFCB0#32
  | 107 => 0x3EE0C9C1#32
  | 108 => 0x3ECB348A#32
  | 109 => 0x3FF2484F#32
  | 110 => 0x40523F6B#32
  | 111 => 0x3F9D7F12#32
  | 112 => 0xBEBBB837#32
  | 113 => 0xBEF1B9C7#32
  | 114 => 0x3F6F3920#32
  | 115 => 0x3FA2FBCB#32
  | 116 => 0x3F08A36E#32
  | 117 => 0xBED5C297#32
  | 118 => 0xBF86EDF6#32
  | 119 => 0xBFA65D52#32
  | 120 => 0xBF7004AA#32
  | 121 => 0xBF105CC2#32
  | 122 => 0x3EC6BBBA#32
  | 123 => 0x3FEBF93A#32
  | 124 => 0xBDE51EB6#32
  | 125 => 0xBF8E61DA#32
  | 126 => 0x3F9268D1#32
  | 127 => 0xBEF5F874#32
  | _ => 0#32

noncomputable abbrev lit0t0_99 (i : Nat) : BitVec 32 := match i % 128 with
  | 0 => 0xBED470DB#32
  | 1 => 0x3F05AE6D#32
  | 2 => 0xBED2CB98#32
  | 3 => 0x3F07BD89#32
  | 4 => 0x3E38E5A1#32
  | 5 => 0x3FD800C4#32
  | 6 => 0x3D017DA4#32
  | 7 => 0x3F0EA8B9#32
  | 8 => 0xBF6C56A0#32
  | 9 => 0x3EFE015D#32
  | 10 => 0xBEADD08C#32
  | 11 => 0x3FAD41C8#32
  | 12 => 0x3F3AE304#32
  | 13 => 0x3DC6B65E#32
  | 14 => 0xBF6D03DB#32
  | 15 => 0x3F13F88F#32
  | 16 => 0x3F696986#32
  | 17 => 0xBFBB03A4#32
  | 18 => 0x402BDA2F#32
  | 19 => 0x3F750B55#32
  | 20 => 0x3FC12AFD#32
  | 21 => 0x3EFB651F#32
  | 22 => 0xBF8F06C1#32
  | 23 => 0x3D213CAD#32
  | 24 => 0xBE12BB35#32
  | 25 => 0xBEF181A8#32
  | 26 => 0x3F20991E#32
  | 27 => 0xBF6F19FA#32
  | 28 => 0x401D4F28#32
  | 29 => 0xBF2E9706#32
  | 30 => 0xBDB0A45E#32
  | 31 => 0xBD4447F7#32
  | 32 => 0xBEFB628C#32
  | 33 => 0xBF0BA4C0#32
  | 34 => 0xBF549750#32
  | 35 => 0x3D800220#32
  | 36 => 0xBE41B127#32
  | 37 => 0xBDC272D3#32
  | 38 => 0x3F1320C9#32
  | 39 => 0x3EB304DB#32
  | 40 => 0x400D469F#32
  | 41 => 0xBFC2CBB7#32
  | 42 => 0xBF7CE7F4#32
  | 43 => 0x400BB7F6#32
  | 44 => 0xBF17CDD6#32
  | 45 => 0x402A8CA3#32
  | 46 => 0xBD986EB0#32
  | 47 => 0x3DAC6A40#32
  | 48 => 0x3F7CB96C#32
  | 49 => 0x3F0E7196#32
  | 50 => 0x4005D9C0#32
  | 51 => 0xBEDA3288#32
  | 52 => 0xBE359CCC#32
  | 53 => 0xBF17BBDB#32
  | 54 => 0x3FCA9844#32
  | 55 => 0xBF3CC9D2#32
  | 56 => 0xBEE98E52#32
  | 57 => 0x3FD95742#32
  | 58 => 0xBE613BBC#32
  | 59 => 0xBF04F16A#32
  | 60 => 0xBF852792#32
  | 61 => 0xBEB53CC2#32
  | 62 => 0x404EA23D#32
  | 63 => 0xBE2D7F02#32
  | 64 => 0x40271C9C#32
  | 65 => 0xBEB36563#32
  | 66 => 0x3F1F1C7F#32
  | 67 => 0x400BC0BB#32
  | 68 => 0x3FA9CC86#32
  | 69 => 0xBDF181AC#32
  | 70 => 0x3F60F9EE#32
  | 71 => 0x3F9A6E27#32
  | 72 => 0xBF699CBD#32
  | 73 => 0x3F6D99F7#32
  | 74 => 0x401B82F0#32
  | 75 => 0xBF967BDA#32
  | 76 => 0xBEFAB158#32
  | 77 => 0x40123EF5#32
  | 78 => 0x3F9C21F4#32
  | 79 => 0xBF7540C6#32
  | 80 => 0xBE3C086D#32
  | 81 => 0xBD24CA80#32
  | 82 => 0xBF83ECB6#32
  | 83 => 0xBF81C42D#32
  | 84 => 0x3EBB6072#32
  | 85 => 0x3FAA8D93#32
  | 86 => 0x402D05BF#32
  | 87 => 0x3BE26BCD#32
  | 88 => 0x400DE2F4#32
  | 89 => 0x3FD549C3#32
  | 90 => 0xBF4A1045#32
  | 91 => 0xBB47207A#32
  | 92 => 0xBE8DFB3A#32
  | 93 => 0x3F985A6A#32
  | 94 => 0xBF016E58#32
  | 95 => 0xBE2190EC#32
  | 96 => 0x3F63FF24#32
  | 97 => 0x3F81F679#32
  | 98 => 0xBE812637#32
  | 99 => 0xBEE156C6#32
  | 100 => 0x3F92E9E9#32
  | 101 => 0xBF331619#32
  | 102 => 0xBF5C8CBC#32
  | 103 => 0x3E18D547#32
  | 104 => 0x3E9AEE61#32
  | 105 => 0x3FA373BE#32
  | 106 => 0xBF343496#32
  | 107 => 0xBF699CA0#32
  | 108 => 0x3F27DAF5#32
  | 109 => 0x40355BDA#32
  | 110 => 0x3F3546BF#32
  | 111 => 0xBDDF5C14#32
  | 112 => 0x3FF3043E#32
  | 113 => 0xBEC9BE05#32
  | 114 => 0x3F658403#32
  | 115 => 0xBE9E46B7#32
  | 116 => 0x3F7AF5BC#32
  | 117 => 0x3F3A57C4#32
  | 118 => 0x3E2B153A#32
  | 119 => 0x401B3126#32
  | 120 => 0xBFBB0E50#32
  | 121 => 0x3F9BF7EC#32
  | 122 => 0x4002E627#32
  | 123 => 0xBF194D12#32
  | 124 => 0x3ECBA3B8#32
  | 125 => 0x3F290D93#32
  | 126 => 0x3E2EA424#32
  | 127 => 0xBFAFF638#32
  | _ => 0#32

noncomputable abbrev lit0t0_100 (i : Nat) : BitVec 32 := match i % 128 with
  | 0 => 0x3FAB05D3#32
  | 1 => 0xBFC5F27B#32
  | 2 => 0xBE3AA84E#32
  | 3 => 0x40475175#32
  | 4 => 0x3F8592C3#32
  | 5 => 0x4002D682#32
  | 6 => 0x3FA3A152#32
  | 7 => 0x40116F0F#32
  | 8 => 0x3F06D318#32
  | 9 => 0x3FE82A82#32
  | 10 => 0x3F8D99CC#32
  | 11 => 0x3D5A9258#32
  | 12 => 0x3E596620#32
  | 13 => 0x3D355712#32
  | 14 => 0x3D0CC2A3#32
  | 15 => 0x3F29D258#32
  | 16 => 0x4003064D#32
  | 17 => 0xBF348CCD#32
  | 18 => 0x3E8BCACD#32
  | 19 => 0x4016FC43#32
  | 20 => 0xBF61D4CB#32
  | 21 => 0xBEC49E32#32
  | 22 => 0xBEC95BD9#32
  | 23 => 0x3F1403B0#32
  | 24 => 0x3FCFC6DF#32
  | 25 => 0x3F2F4F65#32
  | 26 => 0x3F94AD3F#32
  | 27 => 0x3DDB49DA#32
  | 28 => 0xBF479588#32
  | 29 => 0x3FCF367F#32
  | 30 => 0xBECFFFC8#32
  | 31 => 0xBCD3E174#32
  | 32 => 0x3F170F08#32
  | 33 => 0xBD6AE3A9#32
  | 34 => 0xBE5B17E5#32
  | 35 => 0xBF759E39#32
  | 36 => 0xBF7091A7#32
  | 37 => 0x3FC443A6#32
  | 38 => 0xBF6674DA#32
  | 39 => 0x4014A146#32
  | 40 => 0x3E595001#32
  | 41 => 0x40726D77#32
  | 42 => 0xBEBF592B#32
  | 43 => 0x3FD2D75E#32
  | 44 => 0xBFB4C746#32
  | 45 => 0xBD7E9D3A#32
  | 46 => 0x3E0F6471#32
  | 47 => 0x3F8DB568#32
  | 48 => 0x3ED74E46#32
  | 49 => 0xBF5A7602#32
  | 50 => 0x3FA8B1CF#32
  | 51 => 0x3FF9C136#32
  | 52 => 0xBF2D1077#32
  | 53 => 0xBF40D588#32
  | 54 => 0xBF45EF70#32
  | 55 => 0x3D886F0A#32
  | 56 => 0xBF6FCF22#32
  | 57 => 0x3F870399#32
  | 58 => 0xBF5856BE#32
  | 59 => 0x404E139B#32
  | 60 => 0x40028F9A#32
  | 61 => 0xBF4C047A#32
  | 62 => 0x3F25BBA7#32
  | 63 => 0x3F88AACA#32
  | 64 => 0x4004F136#32
  | 65 => 0xBF2D8259#32
  | 66 => 0x3D16016B#32
  | 67 => 0xBF231E64#32
  | 68 => 0xBEE483BE#32
  | 69 => 0xBFCAEE83#32
  | 70 => 0xBF1024D8#32
  | 71 => 0x3F20844F#32
  | 72 => 0x3F777236#32
  | 73 => 0x3E2FADF3#32
  | 74 => 0x3F8E76CE#32
  | 75 => 0x401178BF#32
  | 76 => 0xBE7F86EB#32
  | 77 => 0xBEF7680A#32
  | 78 => 0x3F8303B7#32
  | 79 => 0xBE733CA3#32
  | 80 => 0x3EFF1C64#32
  | 81 => 0x4081CBB3#32
  | 82 => 0xBF236F63#32
  | 83 => 0x3E021F85#32
  | 84 => 0xBF0E69D8#32
  | 85 => 0x3E717FCA#32
  | 86 => 0x3F862A6B#32
  | 87 => 0x3FAFB52C#32
  | 88 => 0x40BDD054#32
  | 89 => 0x40B3CF61#32
  | 90 => 0x401CB4C4#32
  | 91 => 0x3F4418E2#32
  | 92 => 0x3D6D84B1#32
  | 93 => 0xBEE0FA83#32
  | 94 => 0x3FC1E05C#32
  | 95 => 0x40067C01#32
  | 96 => 0x3E35A1B5#32
  | 97 => 0xBFD5671F#32
  | 98 => 0xBEF5856A#32
  | 99 => 0x3F3F34B1#32
  | 100 => 0x3ECEB8F5#32
  | 101 => 0x3C3D3F3A#32
  | 102 => 0x4093D561#32
  | 103 => 0x3FC3B903#32
  | 104 => 0xBE155566#32
  | 105 => 0x3F26805E#32
  | 106 => 0x3E80A292#32
  | 107 => 0xBEE27EEC#32
  | 108 => 0x3E1CF010#32
  | 109 => 0xBED8648A#32
  | 110 => 0x3FA5C7CE#32
  | 111 => 0xBF1AB8C7#32
  | 112 => 0x3F673924#32
  | 113 => 0x3EAD45B4#32
  | 114 => 0x400469B5#32
  | 115 => 0x3F9E95DC#32
  | 116 => 0x3FA72836#32
  | 117 => 0x40788819#32
  | 118 => 0xBF90071C#32
  | 119 => 0x3E371227#32
  | 120 => 0x3F95E377#32
  | 121 => 0x4018390C#32
  | 122 => 0x3F67E1EF#32
  | 123 => 0x3F5AAE2D#32
  | 124 => 0x3FA4ED1F#32
  | 125 => 0x4031D997#32
  | 126 => 0x4036C0E6#32
  | 127 => 0xBF12329A#32
  | _ => 0#32

noncomputable abbrev lit0t0_101 (i : Nat) : BitVec 32 := match i % 128 with
  | 0 => 0xBEBB9D5B#32
  | 1 => 0x402E1B3E#32
  | 2 => 0xBE68F5D3#32
  | 3 => 0x3F632F26#32
  | 4 => 0x3F8C40C9#32
  | 5 => 0x3F2D3D2E#32
  | 6 => 0xBF2DC58E#32
  | 7 => 0x404B26D3#32
  | 8 => 0xBF01BB9E#32
  | 9 => 0x40428719#32
  | 10 => 0x3F0F1DC1#32
  | 11 => 0xBFC0DADC#32
  | 12 => 0x4058A3BE#32
  | 13 => 0x3E80FFFB#32
  | 14 => 0x3F94EB1A#32
  | 15 => 0xBEC5DD43#32
  | 16 => 0x3CA7087E#32
  | 17 => 0x3F9DD386#32
  | 18 => 0x3EE8A28D#32
  | 19 => 0xBF11714A#32
  | 20 => 0x400A14B0#32
  | 21 => 0xBE0E3B1A#32
  | 22 => 0x3FB5E99D#32
  | 23 => 0x3F524BB6#32
  | 24 => 0x3E9201FB#32
  | 25 => 0x3FCEA100#32
  | 26 => 0x3FBA2DAD#32
  | 27 => 0x40964581#32
  | 28 => 0x40A0B35E#32
  | 29 => 0x4090DAFD#32
  | 30 => 0x3FF66191#32
  | 31 => 0xBEF55485#32
  | 32 => 0x407F4FED#32
  | 33 => 0x3EC98BC7#32
  | 34 => 0xBEDFB1F7#32
  | 35 => 0x400D2E0E#32
  | 36 => 0xBF12DE1A#32
  | 37 => 0x3F86107E#32
  | 38 => 0x3F15F8AE#32
  | 39 => 0x40AE5ECE#32
  | 40 => 0x3F975E08#32
  | 41 => 0xBF119E2F#32
  | 42 => 0x4002FC26#32
  | 43 => 0x3ECBE690#32
  | 44 => 0xBFFE9D7B#32
  | 45 => 0x3F4F6A25#32
  | 46 => 0xBF07DF5E#32
  | 47 => 0x4012312C#32
  | 48 => 0xBFBCF009#32
  | 49 => 0xBC20508F#32
  | 50 => 0xBF26F806#32
  | 51 => 0x3F8C7B10#32
  | 52 => 0x3ECE41B8#32
  | 53 => 0x3FCFC378#32
  | 54 => 0x3FB6FA44#32
  | 55 => 0x401CD33F#32
  | 56 => 0x3F9A0060#32
  | 57 => 0x3FA0A63E#32
  | 58 => 0x3DE3884E#32
  | 59 => 0x3FCD1722#32
  | 60 => 0xBD984D27#32
  | 61 => 0x3D4FE3E3#32
  | 62 => 0x401863C0#32
  | 63 => 0xBFCD1479#32
  | 64 => 0x40B0106C#32
  | 65 => 0x3D5D0014#32
  | 66 => 0xBF1A8E94#32
  | 67 => 0x3FAADD99#32
  | 68 => 0x3F00AF13#32
  | 69 => 0x3D6A03E7#32
  | 70 => 0x3EC25BFD#32
  | 71 => 0xBEB40C59#32
  | 72 => 0xBF73BE2B#32
  | 73 => 0x3F8522BE#32
  | 74 => 0x3FA12448#32
  | 75 => 0xBF103164#32
  | 76 => 0x3BAE89CA#32
  | 77 => 0x3DD16A46#32
  | 78 => 0x4049C57F#32
  | 79 => 0xBEF33277#32
  | 80 => 0x3B9C9019#32
  | 81 => 0x3F92CDAF#32
  | 82 => 0xBF765862#32
  | 83 => 0x3FC207B1#32
  | 84 => 0xBED2A3B1#32
  | 85 => 0x3EC6BE22#32
  | 86 => 0x3F87E11E#32
  | 87 => 0x3EE8F17E#32
  | 88 => 0x3FD8BB24#32
  | 89 => 0x3F5C2310#32
  | 90 => 0xBF868B0A#32
  | 91 => 0x3ED1C5A0#32
  | 92 => 0xBF222FA4#32
  | 93 => 0xBE187228#32
  | 94 => 0x3EF323A6#32
  | 95 => 0x3F06AD59#32
  | 96 => 0x3EDBDDB9#32
  | 97 => 0x3FEEC219#32
  | 98 => 0xBE8B5A2D#32
  | 99 => 0x3EE699DC#32
  | 100 => 0x3FE848B3#32
  | 101 => 0xBF311D48#32
  | 102 => 0x3E5E4B92#32
  | 103 => 0xBD325F81#32
  | 104 => 0x3F5616B3#32
  | 105 => 0x3F75DFAF#32
  | 106 => 0xBFC5C99F#32
  | 107 => 0x3F2604E2#32
  | 108 => 0x3F5506E3#32
  | 109 => 0x401913E9#32
  | 110 => 0xBFAD0A39#32
  | 111 => 0x3EF4F9A9#32
  | 112 => 0x3FBE06AB#32
  | 113 => 0x3F00E8A5#32
  | 114 => 0x4020C434#32
  | 115 => 0x3F57CACD#32
  | 116 => 0x401DEDB4#32
  | 117 => 0x3EEE1364#32
  | 118 => 0xBF6D0C16#32
  | 119 => 0x3F0FCF76#32
  | 120 => 0x3F955FFB#32
  | 121 => 0x3FDAC7FD#32
  | 122 => 0x3E5ECE6E#32
  | 123 => 0x3EA953D8#32
  | 124 => 0x402F7B8F#32
  | 125 => 0x3FA1ABD6#32
  | 126 => 0x3FF84C69#32
  | 127 => 0xBED1AE74#32
  | _ => 0#32

noncomputable abbrev lit0t0_102 (i : Nat) : BitVec 32 := match i % 128 with
  | 0 => 0xBF5D5456#32
  | 1 => 0xBE9653AA#32
  | 2 => 0x3F28EE10#32
  | 3 => 0x3EDC9AE5#32
  | 4 => 0xBEA11343#32
  | 5 => 0x3EF55C40#32
  | 6 => 0x400D7B9B#32
  | 7 => 0x3D901DA2#32
  | 8 => 0xBEC44815#32
  | 9 => 0x3EBFF702#32
  | 10 => 0xBFA31324#32
  | 11 => 0x3F678CED#32
  | 12 => 0x40092958#32
  | 13 => 0x3FC88A5C#32
  | 14 => 0x3E117012#32
  | 15 => 0x4001D089#32
  | 16 => 0x401DCB6F#32
  | 17 => 0x3FA8A718#32
  | 18 => 0xBF97112D#32
  | 19 => 0x3F0B16F5#32
  | 20 => 0x3D9BC02E#32
  | 21 => 0xBF216BF2#32
  | 22 => 0x3F6E22B8#32
  | 23 => 0x3FC4AE38#32
  | 24 => 0x3F8951E1#32
  | 25 => 0x3E694423#32
  | 26 => 0x3EF30E7F#32
  | 27 => 0xBB684086#32
  | 28 => 0x3FC1D057#32
  | 29 => 0x3F068DB2#32
  | 30 => 0x3ED28EA6#32
  | 31 => 0x3E5695C3#32
  | 32 => 0x3F0F7D64#32
  | 33 => 0x3FB1A9E5#32
  | 34 => 0x3E468ABC#32
  | 35 => 0x3FF3B82F#32
  | 36 => 0x3F9CBD51#32
  | 37 => 0x3FE08DA2#32
  | 38 => 0x40140D95#32
  | 39 => 0x3FAC090E#32
  | 40 => 0x3FCDF645#32
  | 41 => 0xBE20A394#32
  | 42 => 0x3F8721AF#32
  | 43 => 0xBDA571DD#32
  | 44 => 0xBF4B82FE#32
  | 45 => 0x3D1A0902#32
  | 46 => 0x3F2E0D41#32
  | 47 => 0x3FA4FAB6#32
  | 48 => 0x3E933FB1#32
  | 49 => 0x3C94557B#32
  | 50 => 0x3FDBEE32#32
  | 51 => 0xBF54E621#32
  | 52 => 0xBEBD4AE7#32
  | 53 => 0x3F9F8CDC#32
  | 54 => 0x3F411982#32
  | 55 => 0xBF1BF965#32
  | 56 => 0xBF97B2A5#32
  | 57 => 0x3F9A6E3D#32
  | 58 => 0x3FF9E8D0#32
  | 59 => 0xBF08D5EA#32
  | 60 => 0xBF798947#32
  | 61 => 0x3E1AC41E#32
  | 62 => 0xBF9761B7#32
  | 63 => 0xBECA802E#32
  | 64 => 0xBF646D76#32
  | 65 => 0x40B99B66#32
  | 66 => 0xBEFD342E#32
  | 67 => 0x402C9DBF#32
  | 68 => 0xBF02E180#32
  | 69 => 0xBE9BA77B#32
  | 70 => 0x3EC8C613#32
  | 71 => 0x3ED75EEE#32
  | 72 => 0x3F2334EF#32
  | 73 => 0xBF1178D0#32
  | 74 => 0x3ED0D36A#32
  | 75 => 0xBF97AD24#32
  | 76 => 0x3EADCBAE#32
  | 77 => 0xBF860994#32
  | 78 => 0x3EA92D4D#32
  | 79 => 0x402EE171#32
  | 80 => 0xBEB88E5B#32
  | 81 => 0x3FCA6CC2#32
  | 82 => 0x3F1A0815#32
  | 83 => 0xBF177B38#32
  | 84 => 0x3F2ABC4E#32
  | 85 => 0x3F4C784C#32
  | 86 => 0xBF8210D7#32
  | 87 => 0x401AB5C6#32
  | 88 => 0xBF3A2EB7#32
  | 89 => 0xBF47E317#32
  | 90 => 0xBEA540E4#32
  | 91 => 0x3EBA1AEF#32
  | 92 => 0x3F413D2A#32
  | 93 => 0xBDCE1F59#32
  | 94 => 0x3F54FB68#32
  | 95 => 0xBF3F08F4#32
  | 96 => 0x3F44DA66#32
  | 97 => 0x3FA5947A#32
  | 98 => 0x3EAF397B#32
  | 99 => 0xBF4224DA#32
  | 100 => 0x3E55AF93#32
  | 101 => 0x3DC01033#32
  | 102 => 0x3F71C38F#32
  | 103 => 0x3C8FFED7#32
  | 104 => 0xBEC8DCC8#32
  | 105 => 0x3FF7048F#32
  | 106 => 0x3E965ADD#32
  | 107 => 0x40003B35#32
  | 108 => 0x3F8F6733#32
  | 109 => 0x402FEF6F#32
  | 110 => 0xBE99BEB3#32
  | 111 => 0x4044A7E1#32
  | 112 => 0x3F8D6094#32
  | 113 => 0x3F939138#32
  | 114 => 0xBD2E7CAB#32
  | 115 => 0x3FBCEF3F#32
  | 116 => 0xBD2367C0#32
  | 117 => 0x4024B871#32
  | 118 => 0x3F61A0F6#32
  | 119 => 0x3FE70612#32
  | 120 => 0x4000FC06#32
  | 121 => 0x3F5B01A6#32
  | 122 => 0x3F6DE3E3#32
  | 123 => 0xBDE3004A#32
  | 124 => 0xBF4AF41C#32
  | 125 => 0x3F02FA3A#32
  | 126 => 0x40245F3C#32
  | 127 => 0xBED3D0A0#32
  | _ => 0#32

noncomputable abbrev lit0t0_103 (i : Nat) : BitVec 32 := match i % 128 with
  | 0 => 0x3E99A539#32
  | 1 => 0x3EE47258#32
  | 2 => 0x3F11E1BE#32
  | 3 => 0xBFCBC1FA#32
  | 4 => 0x3F698E42#32
  | 5 => 0xBF637BDA#32
  | 6 => 0x3F970D56#32
  | 7 => 0x3FB54240#32
  | 8 => 0x3F387E64#32
  | 9 => 0x3F4A8C31#32
  | 10 => 0x40537992#32
  | 11 => 0xBED68077#32
  | 12 => 0x3FBCD528#32
  | 13 => 0x400BFD71#32
  | 14 => 0x401B676B#32
  | 15 => 0x4000EA74#32
  | 16 => 0x40553A6B#32
  | 17 => 0xBF37620B#32
  | 18 => 0x3FE5C51C#32
  | 19 => 0x3EE9E2C7#32
  | 20 => 0x3EAECAC3#32
  | 21 => 0xBF100AF6#32
  | 22 => 0xBF13F11B#32
  | 23 => 0xBEEE46A2#32
  | 24 => 0x3E8C4F5D#32
  | 25 => 0x3E448535#32
  | 26 => 0x3FB704B1#32
  | 27 => 0xBF22F8D0#32
  | 28 => 0x3D0D31D7#32
  | 29 => 0x3FDBE3DC#32
  | 30 => 0xBF97CC76#32
  | 31 => 0xBDC7351D#32
  | 32 => 0xBED16DAC#32
  | 33 => 0x404DE4F8#32
  | 34 => 0x40666F49#32
  | 35 => 0xBEF394D4#32
  | 36 => 0x3E854FB5#32
  | 37 => 0x4001EE6E#32
  | 38 => 0x3F46FF8C#32
  | 39 => 0xBD9AC2E2#32
  | 40 => 0x3FB97B53#32
  | 41 => 0x4024B87F#32
  | 42 => 0x402A82EC#32
  | 43 => 0xBC8735C5#32
  | 44 => 0x40479EBD#32
  | 45 => 0x3F99A678#32
  | 46 => 0x4016A3CB#32
  | 47 => 0x3F9486A4#32
  | 48 => 0x3F742962#32
  | 49 => 0x3FBF16E8#32
  | 50 => 0x3F9654D2#32
  | 51 => 0x3F22F8A4#32
  | 52 => 0xBF1001ED#32
  | 53 => 0x3FB26B12#32
  | 54 => 0xBE753975#32
  | 55 => 0xBF19BE7D#32
  | 56 => 0x3F64C424#32
  | 57 => 0xBEF0B5F6#32
  | 58 => 0x3E7CEE0D#32
  | 59 => 0x3F44A038#32
  | 60 => 0x40867909#32
  | 61 => 0x4004383E#32
  | 62 => 0xBE28DC63#32
  | 63 => 0x3F301B66#32
  | 64 => 0x3F827ACA#32
  | 65 => 0xBEC6E854#32
  | 66 => 0x3FF0D704#32
  | 67 => 0x3E7FB509#32
  | 68 => 0x3FE922B7#32
  | 69 => 0x3EB23F65#32
  | 70 => 0x3F9B728C#32
  | 71 => 0x3FE56AEC#32
  | 72 => 0x3FBAA804#32
  | 73 => 0x4051A2B1#32
  | 74 => 0x3EA541AA#32
  | 75 => 0x400088F0#32
  | 76 => 0xBCE5E3F2#32
  | 77 => 0xBEF53732#32
  | 78 => 0x3FC42631#32
  | 79 => 0xBEEB1872#32
  | 80 => 0x3E1ACC89#32
  | 81 => 0x4086D560#32
  | 82 => 0x3F2F48E7#32
  | 83 => 0x3FF9645C#32
  | 84 => 0x3F3B1FE8#32
  | 85 => 0x4061A3E9#32
  | 86 => 0xBF256FB7#32
  | 87 => 0x3ECFBB82#32
  | 88 => 0x4031AFEA#32
  | 89 => 0xBF8D2F71#32
  | 90 => 0x4002E19E#32
  | 91 => 0x4006E7BC#32
  | 92 => 0x3FDD95E4#32
  | 93 => 0x3FD54CCE#32
  | 94 => 0x3FA29F8D#32
  | 95 => 0x3C0BDCE4#32
  | 96 => 0xBE30AFA9#32
  | 97 => 0x3F29B9EF#32
  | 98 => 0x3E46C6A9#32
  | 99 => 0x3E86215F#32
  | 100 => 0xBE559A1D#32
  | 101 => 0x3F915665#32
  | 102 => 0xBEC2ADAE#32
  | 103 => 0x3E5C3871#32
  | 104 => 0x40614921#32
  | 105 => 0xBF86F9A1#32
  | 106 => 0xBE660614#32
  | 107 => 0xBE117680#32
  | 108 => 0x3EA8B28E#32
  | 109 => 0xBF0C0EBA#32
  | 110 => 0x3E4A6A4E#32
  | 111 => 0xBE98F4A0#32
  | 112 => 0x3FC535FE#32
  | 113 => 0xBE81999B#32
  | 114 => 0xBF54B0C7#32
  | 115 => 0x3F0B7209#32
  | 116 => 0xBF4520ED#32
  | 117 => 0x3F1754D8#32
  | 118 => 0xBF8A8C5F#32
  | 119 => 0x3FEFF1BF#32
  | 120 => 0x3EE52BAC#32
  | 121 => 0x3F54B107#32
  | 122 => 0x3F0AB06C#32
  | 123 => 0x401CEBCC#32
  | 124 => 0x3D7E28ED#32
  | 125 => 0x40247076#32
  | 126 => 0x3F618034#32
  | 127 => 0xBF1BDE4C#32
  | _ => 0#32

noncomputable abbrev lit0t0_104 (i : Nat) : BitVec 32 := match i % 128 with
  | 0 => 0x3FA3AA04#32
  | 1 => 0x3DB1E204#32
  | 2 => 0x3E228C5D#32
  | 3 => 0x3F9AD813#32
  | 4 => 0xBE2E7663#32
  | 5 => 0x3FA4881D#32
  | 6 => 0xBCE1E837#32
  | 7 => 0x4038E6A3#32
  | 8 => 0x40A114B9#32
  | 9 => 0xBF758D6A#32
  | 10 => 0x3F614455#32
  | 11 => 0x3ED52BD1#32
  | 12 => 0x3DD3D418#32
  | 13 => 0x3F94C4EC#32
  | 14 => 0x3E53B83F#32
  | 15 => 0xBEBE7CAC#32
  | 16 => 0x3F9CEB0F#32
  | 17 => 0x3E9EA0F1#32
  | 18 => 0x3FCAE88A#32
  | 19 => 0x3C0F560B#32
  | 20 => 0x3F62DE59#32
  | 21 => 0x3FEF2F2A#32
  | 22 => 0x3F85FA54#32
  | 23 => 0x4016C6E4#32
  | 24 => 0x402798FE#32
  | 25 => 0x402F0F93#32
  | 26 => 0xBF1F0DF8#32
  | 27 => 0x3DC032D5#32
  | 28 => 0xBFC9DFD1#32
  | 29 => 0xBEC810E5#32
  | 30 => 0x3FEEFFD2#32
  | 31 => 0x3F8DA7A4#32
  | 32 => 0xBE076EE1#32
  | 33 => 0x4006B643#32
  | 34 => 0xBFA112B4#32
  | 35 => 0xBD474466#32
  | 36 => 0x3FA9D3B7#32
  | 37 => 0x3F092F58#32
  | 38 => 0x3DBCABA3#32
  | 39 => 0x3EACC934#32
  | 40 => 0xBF40F189#32
  | 41 => 0x4033BED4#32
  | 42 => 0xBEA58695#32
  | 43 => 0x401596A7#32
  | 44 => 0xBF4B6C4A#32
  | 45 => 0x3F9E3712#32
  | 46 => 0x3F8B3D9E#32
  | 47 => 0xBEF29216#32
  | 48 => 0x40091B53#32
  | 49 => 0x3F93C84E#32
  | 50 => 0xBE370915#32
  | 51 => 0xBDDD665F#32
  | 52 => 0x40543C9D#32
  | 53 => 0xBE114310#32
  | 54 => 0xBF30EBFA#32
  | 55 => 0x402B26C7#32
  | 56 => 0x3F22A238#32
  | 57 => 0x3E2C679E#32
  | 58 => 0x3F83143C#32
  | 59 => 0x3CD4ACE8#32
  | 60 => 0x3F4AFBED#32
  | 61 => 0x3E43449A#32
  | 62 => 0xBF6D06CA#32
  | 63 => 0x3F4B3FE2#32
  | 64 => 0x3F8B27FA#32
  | 65 => 0xBEB77FFD#32
  | 66 => 0xBE77B68E#32
  | 67 => 0x3EBEF5D8#32
  | 68 => 0xBF3A59B2#32
  | 69 => 0x3F965AB2#32
  | 70 => 0x3FD5C7C0#32
  | 71 => 0x3EB2FCD3#32
  | 72 => 0x3F2BF985#32
  | 73 => 0x3FD4BDBF#32
  | 74 => 0x3FC23F23#32
  | 75 => 0x3EF2F47A#32
  | 76 => 0x3F15D9F3#32
  | 77 => 0x400E52A1#32
  | 78 => 0xBF830010#32
  | 79 => 0xBF9B4090#32
  | 80 => 0x401513C9#32
  | 81 => 0x3DA9FD66#32
  | 82 => 0xBEC07A17#32
  | 83 => 0x3FB0B153#32
  | 84 => 0xBE4BF178#32
  | 85 => 0x3FDF6063#32
  | 86 => 0xBEF80AB8#32
  | 87 => 0x3EB134ED#32
  | 88 => 0x3F7BF788#32
  | 89 => 0xBF4404ED#32
  | 90 => 0x3EB5458B#32
  | 91 => 0x3DBECBAD#32
  | 92 => 0x3E187A1C#32
  | 93 => 0x40575FDB#32
  | 94 => 0x3E05040B#32
  | 95 => 0xBEC712B3#32
  | 96 => 0x3E38C6BF#32
  | 97 => 0x3D368823#32
  | 98 => 0xBFAF13C9#32
  | 99 => 0xBEC63BF5#32
  | 100 => 0xBF8507B2#32
  | 101 => 0x3C509B09#32
  | 102 => 0x4007EDB2#32
  | 103 => 0xBE7ED105#32
  | 104 => 0x3DD8E411#32
  | 105 => 0x3EECA251#32
  | 106 => 0x40300D12#32
  | 107 => 0xBF8751E8#32
  | 108 => 0x3DDE7535#32
  | 109 => 0xBFD1AFDE#32
  | 110 => 0x3F3F24F0#32
  | 111 => 0x3ED9BBDA#32
  | 112 => 0x3E9230A9#32
  | 113 => 0x402EFB83#32
  | 114 => 0xBF4E1144#32
  | 115 => 0x3E9AFE18#32
  | 116 => 0xBED23956#32
  | 117 => 0x406A3308#32
  | 118 => 0x3F081BF8#32
  | 119 => 0xBDD310AE#32
  | 120 => 0x3E9EE846#32
  | 121 => 0xBD387F21#32
  | 122 => 0x3E0A6D3D#32
  | 123 => 0x3F03D24A#32
  | 124 => 0x40199B4B#32
  | 125 => 0x3F954108#32
  | 126 => 0x3FD77E21#32
  | 127 => 0x40087FF2#32
  | _ => 0#32

noncomputable abbrev lit0t0_105 (i : Nat) : BitVec 32 := match i % 128 with
  | 0 => 0x3F43DD89#32
  | 1 => 0x3FF61799#32
  | 2 => 0xBEF9F467#32
  | 3 => 0x3F52DE5F#32
  | 4 => 0x3FD5DE87#32
  | 5 => 0x3F6B3E4D#32
  | 6 => 0xBF434A12#32
  | 7 => 0x3D6A6432#32
  | 8 => 0x3FF02895#32
  | 9 => 0xBEACDC94#32
  | 10 => 0x3FC29758#32
  | 11 => 0x40706DBC#32
  | 12 => 0xBF3E7722#32
  | 13 => 0xBF5B8BC0#32
  | 14 => 0xBEE1B19A#32
  | 15 => 0x3E34293F#32
  | 16 => 0x3F39E8D2#32
  | 17 => 0x40045336#32
  | 18 => 0x4038B4AC#32
  | 19 => 0xBF644082#32
  | 20 => 0x3E96F2BE#32
  | 21 => 0xBFC574C8#32
  | 22 => 0xBF503C68#32
  | 23 => 0x3F6E3010#32
  | 24 => 0x3F1CBF64#32
  | 25 => 0x3F77EEAC#32
  | 26 => 0x3FEEF607#32
  | 27 => 0xBE34D9AC#32
  | 28 => 0x3FD32DB2#32
  | 29 => 0xBF5A3EF9#32
  | 30 => 0x3F2D45FE#32
  | 31 => 0x3E01FDDE#32
  | 32 => 0xBF0CAA0D#32
  | 33 => 0x3F728E72#32
  | 34 => 0xBEFF0C3A#32
  | 35 => 0xBED14D13#32
  | 36 => 0xBF7FE10A#32
  | 37 => 0x3FA32E4C#32
  | 38 => 0xBE5BD51B#32
  | 39 => 0x3FD74D21#32
  | 40 => 0x3FA624E2#32
  | 41 => 0x405A50BD#32
  | 42 => 0xBE886D04#32
  | 43 => 0xBF4FC7F2#32
  | 44 => 0x3F3BEE3C#32
  | 45 => 0x40665026#32
  | 46 => 0xBF877AA6#32
  | 47 => 0x3F877294#32
  | 48 => 0x3F7DB7A4#32
  | 49 => 0xBEFD7A76#32
  | 50 => 0x3F52D4E0#32
  | 51 => 0x3F8B1837#32
  | 52 => 0x402E4059#32
  | 53 => 0x3F2423F9#32
  | 54 => 0x3F93D269#32
  | 55 => 0x3F101ABA#32
  | 56 => 0x3FA45B28#32
  | 57 => 0x3F4A7EA2#32
  | 58 => 0xBE9B0748#32
  | 59 => 0xBDE78B81#32
  | 60 => 0x401FC3FC#32
  | 61 => 0x400DD2C5#32
  | 62 => 0xBF2A275E#32
  | 63 => 0xBF86900C#32
  | 64 => 0xBDACD029#32
  | 65 => 0xBE28AA82#32
  | 66 => 0x3D623282#32
  | 67 => 0x3F82647A#32
  | 68 => 0xBE90BE66#32
  | 69 => 0x3E9EEB6A#32
  | 70 => 0xBEF53B48#32
  | 71 => 0xBE82173C#32
  | 72 => 0x3F69EBEC#32
  | 73 => 0xBEC00B82#32
  | 74 => 0x3F34EA09#32
  | 75 => 0xBE163468#32
  | 76 => 0xBE08E8F3#32
  | 77 => 0xBFB6609A#32
  | 78 => 0x401A16C9#32
  | 79 => 0xBFDE1173#32
  | 80 => 0x3EA3916C#32
  | 81 => 0x3E430D79#32
  | 82 => 0x403829F3#32
  | 83 => 0x3F5101F1#32
  | 84 => 0x3CA7BD66#32
  | 85 => 0x3F4A67E3#32
  | 86 => 0x3E0810C2#32
  | 87 => 0x4004DEB3#32
  | 88 => 0x3DE71B39#32
  | 89 => 0x3F03BC8D#32
  | 90 => 0xBE3AC3FC#32
  | 91 => 0xBE75F94D#32
  | 92 => 0x3FC92293#32
  | 93 => 0x3F2E6A93#32
  | 94 => 0x3F9E105C#32
  | 95 => 0x3F6FAB30#32
  | 96 => 0x3FD3BDAC#32
  | 97 => 0xBE2C6DBB#32
  | 98 => 0xBD556FD8#32
  | 99 => 0x3E75FE25#32
  | 100 => 0x3FCD0C8D#32
  | 101 => 0x40011224#32
  | 102 => 0x3F15A268#32
  | 103 => 0xBFB4C40A#32
  | 104 => 0x3FA217BB#32
  | 105 => 0xBF37B6EE#32
  | 106 => 0x40B9A901#32
  | 107 => 0xBE90B335#32
  | 108 => 0xBEA5B115#32
  | 109 => 0xBEB5ED1A#32
  | 110 => 0x3F8AF126#32
  | 111 => 0x400222F7#32
  | 112 => 0x3FDDBC83#32
  | 113 => 0x3F4253C7#32
  | 114 => 0x3F079096#32
  | 115 => 0xBCC07996#32
  | 116 => 0x3FF40A2B#32
  | 117 => 0x3FF0BCA0#32
  | 118 => 0xBC56F9DE#32
  | 119 => 0x3F3DF9CB#32
  | 120 => 0x3E82F3D7#32
  | 121 => 0x3F7C2FB7#32
  | 122 => 0x3F02AD35#32
  | 123 => 0x4052985E#32
  | 124 => 0x3F6DCADE#32
  | 125 => 0x3CE894C6#32
  | 126 => 0xBF5FD065#32
  | 127 => 0x407F2E6E#32
  | _ => 0#32

noncomputable abbrev lit0t0_106 (i : Nat) : BitVec 32 := match i % 128 with
  | 0 => 0x3F8A47DE#32
  | 1 => 0x3FED02F0#32
  | 2 => 0xBFB3948A#32
  | 3 => 0xBF928F22#32
  | 4 => 0xBF44CB42#32
  | 5 => 0x401F240A#32
  | 6 => 0x3F6289FA#32
  | 7 => 0xBF9B91F3#32
  | 8 => 0x3FE9BEFC#32
  | 9 => 0x3FC72DC2#32
  | 10 => 0x4032BB50#32
  | 11 => 0xBF3F958F#32
  | 12 => 0x3F28A2BE#32
  | 13 => 0xBF6461E3#32
  | 14 => 0xBF6722F2#32
  | 15 => 0x40175ED8#32
  | 16 => 0x3F703FAF#32
  | 17 => 0x4032468D#32
  | 18 => 0x3E2C1E05#32
  | 19 => 0x3EBACCFC#32
  | 20 => 0x3F3E67FF#32
  | 21 => 0xBEE01EB6#32
  | 22 => 0x3E94C628#32
  | 23 => 0x3E2FF284#32
  | 24 => 0x3FC5996A#32
  | 25 => 0xBF383673#32
  | 26 => 0x3FC7E199#32
  | 27 => 0x3E54AD43#32
  | 28 => 0x400763E5#32
  | 29 => 0xBEEB81AE#32
  | 30 => 0xBE543AE2#32
  | 31 => 0x3FEF95C1#32
  | 32 => 0xBE08D6B0#32
  | 33 => 0x3E4CB3E3#32
  | 34 => 0x3F8D6B1A#32
  | 35 => 0xBF89AC96#32
  | 36 => 0x3FEE6A24#32
  | 37 => 0xBF1B459D#32
  | 38 => 0xBF62D7B6#32
  | 39 => 0x3FFEF055#32
  | 40 => 0xBE65EE96#32
  | 41 => 0x3F8AA4CF#32
  | 42 => 0x3ED2BC1B#32
  | 43 => 0x3EDA38FA#32
  | 44 => 0x3EB535A3#32
  | 45 => 0xBF4B1C02#32
  | 46 => 0x3F5CDDEB#32
  | 47 => 0xBE86B35E#32
  | 48 => 0x40884213#32
  | 49 => 0x3E09B8DD#32
  | 50 => 0xBF4F21A2#32
  | 51 => 0x3F40F21E#32
  | 52 => 0x3F62E6A8#32
  | 53 => 0x3F31977B#32
  | 54 => 0x3F235771#32
  | 55 => 0x3FEFB630#32
  | 56 => 0x3F1CD912#32
  | 57 => 0x3F0560AC#32
  | 58 => 0xBF4C70B5#32
  | 59 => 0x3FFF27CA#32
  | 60 => 0xBE12E704#32
  | 61 => 0x3F3F1E9A#32
  | 62 => 0x3ED0E467#32
  | 63 => 0x3FA5C6A0#32
  | 64 => 0x3EA872E1#32
  | 65 => 0xBF77D2DE#32
  | 66 => 0xBE3ADE00#32
  | 67 => 0x3F3CB5F2#32
  | 68 => 0x3F5B462E#32
  | 69 => 0x3E9CB787#32
  | 70 => 0x405BAF58#32
  | 71 => 0x3F32825F#32
  | 72 => 0x3F2B10EB#32
  | 73 => 0x3F9F0D3D#32
  | 74 => 0x3FBBA93D#32
  | 75 => 0xBE08C6BF#32
  | 76 => 0xBF236E7C#32
  | 77 => 0x3F535AD4#32
  | 78 => 0x3D7FEC5D#32
  | 79 => 0x3FBD583F#32
  | 80 => 0x3DFBDBD9#32
  | 81 => 0x3FC50043#32
  | 82 => 0xBD6266A8#32
  | 83 => 0x3F7B988C#32
  | 84 => 0x3E02E287#32
  | 85 => 0x3FB43FC1#32
  | 86 => 0x3EC3705A#32
  | 87 => 0x3F86DD31#32
  | 88 => 0xBC9AA670#32
  | 89 => 0xBF4FA05E#32
  | 90 => 0x3F983FC9#32
  | 91 => 0x3FCA1664#32
  | 92 => 0xBF522C04#32
  | 93 => 0x3F28E3C0#32
  | 94 => 0x3EC95122#32
  | 95 => 0x3F460D9C#32
  | 96 => 0x400CC234#32
  | 97 => 0xBF8AE900#32
  | 98 => 0x3EEF7E2C#32
  | 99 => 0x3F5A902E#32
  | 100 => 0xBE02A3C0#32
  | 101 => 0x3F86D28E#32
  | 102 => 0x3FECEFB4#32
  | 103 => 0x3F872252#32
  | 104 => 0x4008A2CA#32
  | 105 => 0x3FDE9AF6#32
  | 106 => 0xBEE71339#32
  | 107 => 0xBE4C4486#32
  | 108 => 0x3E3CE8BB#32
  | 109 => 0xBCCB97F1#32
  | 110 => 0xBB637ECD#32
  | 111 => 0x3FE9937F#32
  | 112 => 0x3F60F797#32
  | 113 => 0xBF74296C#32
  | 114 => 0xBEBB393A#32
  | 115 => 0xBEC1558D#32
  | 116 => 0x3F5F32D7#32
  | 117 => 0x3FAFFFF8#32
  | 118 => 0xBFB4B660#32
  | 119 => 0x3F76F766#32
  | 120 => 0x3F839873#32
  | 121 => 0xBF3F151B#32
  | 122 => 0xBF269F70#32
  | 123 => 0xBEAA27AC#32
  | 124 => 0xBD291CBB#32
  | 125 => 0xBF14BDF9#32
  | 126 => 0xBF5D088C#32
  | 127 => 0xBF309113#32
  | _ => 0#32

noncomputable abbrev lit0t0_107 (i : Nat) : BitVec 32 := match i % 128 with
  | 0 => 0x3F2183E4#32
  | 1 => 0x3F033A32#32
  | 2 => 0x3EF02AFC#32
  | 3 => 0x3F712943#32
  | 4 => 0x3EDE962E#32
  | 5 => 0x40B0B7C2#32
  | 6 => 0x4038FE56#32
  | 7 => 0xBEEEB882#32
  | 8 => 0x4041607C#32
  | 9 => 0x3FA6E795#32
  | 10 => 0x3E1B105F#32
  | 11 => 0xBE911E53#32
  | 12 => 0xBDBB1C93#32
  | 13 => 0xBF4A0F78#32
  | 14 => 0xBF627EEB#32
  | 15 => 0x406C1E40#32
  | 16 => 0x3FF39C86#32
  | 17 => 0x3F9E8231#32
  | 18 => 0xBFB3110C#32
  | 19 => 0x3DDBE2BD#32
  | 20 => 0x402BC2AF#32
  | 21 => 0x3E483A94#32
  | 22 => 0x3F6F4453#32
  | 23 => 0xBEB06E34#32
  | 24 => 0xBF4D6F2A#32
  | 25 => 0x3F7AF1F2#32
  | 26 => 0x3F3D0A48#32
  | 27 => 0xBF9A99BD#32
  | 28 => 0x3DBBDEC4#32
  | 29 => 0x402CB73F#32
  | 30 => 0x3E8CD715#32
  | 31 => 0x3F589E13#32
  | 32 => 0xBF59C628#32
  | 33 => 0x402E488A#32
  | 34 => 0x3E3F6CCD#32
  | 35 => 0x400AF125#32
  | 36 => 0x3C93BE87#32
  | 37 => 0xBF2BDEB6#32
  | 38 => 0x4001D646#32
  | 39 => 0x3F9E5BB5#32
  | 40 => 0x404289EC#32
  | 41 => 0xBF63334E#32
  | 42 => 0x40843421#32
  | 43 => 0x4011D675#32
  | 44 => 0x3E816909#32
  | 45 => 0x3FADE20D#32
  | 46 => 0xBDEB3579#32
  | 47 => 0x3F4EB0CA#32
  | 48 => 0x3F3F4545#32
  | 49 => 0x4099026D#32
  | 50 => 0x3F79B154#32
  | 51 => 0xBFD26A80#32
  | 52 => 0x3E1862D8#32
  | 53 => 0x3ED048E9#32
  | 54 => 0x3FBCC980#32
  | 55 => 0xBF201393#32
  | 56 => 0x401E1EC4#32
  | 57 => 0x40141FB9#32
  | 58 => 0xBD290A9E#32
  | 59 => 0x3E2A1C25#32
  | 60 => 0x405191D9#32
  | 61 => 0xBFA22659#32
  | 62 => 0x3C9DF085#32
  | 63 => 0x3FE11630#32
  | 64 => 0xBEB7FADF#32
  | 65 => 0xBEDE0062#32
  | 66 => 0xBF3B0A22#32
  | 67 => 0x3F42FF47#32
  | 68 => 0x3FD07F99#32
  | 69 => 0x4013D53E#32
  | 70 => 0x3FE498B4#32
  | 71 => 0x3B4A44D3#32
  | 72 => 0x3F30F0FF#32
  | 73 => 0x3F3145FA#32
  | 74 => 0x3F024CC2#32
  | 75 => 0x3EB61266#32
  | 76 => 0xBED98EB5#32
  | 77 => 0x3FB018E2#32
  | 78 => 0xBDC447E0#32
  | 79 => 0xBF888512#32
  | 80 => 0x404BEFFB#32
  | 81 => 0x3F2904C6#32
  | 82 => 0x3F9A5EF5#32
  | 83 => 0x402250F8#32
  | 84 => 0x3EBD2127#32
  | 85 => 0x3FA5F740#32
  | 86 => 0xBF4FC281#32
  | 87 => 0x3FD44F7F#32
  | 88 => 0x3FB52F41#32
  | 89 => 0x40AACF5E#32
  | 90 => 0x3E8D0908#32
  | 91 => 0xBDB3A89E#32
  | 92 => 0x3F7384D3#32
  | 93 => 0x3ECC17F0#32
  | 94 => 0x3F530510#32
  | 95 => 0xBE940F93#32
  | 96 => 0x3F9AAD6C#32
  | 97 => 0xBF37D257#32
  | 98 => 0xBF24138C#32
  | 99 => 0x3F2A68DF#32
  | 100 => 0x3D339FF4#32
  | 101 => 0x403C8A98#32
  | 102 => 0xBF9C556C#32
  | 103 => 0x3F34A42E#32
  | 104 => 0x4043A3D2#32
  | 105 => 0x3E62F568#32
  | 106 => 0xBECD6C3B#32
  | 107 => 0xBDF3AB4D#32
  | 108 => 0xBED2B482#32
  | 109 => 0xBEE6EEAC#32
  | 110 => 0x408D1B21#32
  | 111 => 0x3E59062E#32
  | 112 => 0x3CF5FDFC#32
  | 113 => 0x3F0ABDE1#32
  | 114 => 0x3FAA8265#32
  | 115 => 0xBF061F5C#32
  | 116 => 0xBEB52959#32
  | 117 => 0x3D28C575#32
  | 118 => 0x4022DF3A#32
  | 119 => 0x40110ECD#32
  | 120 => 0x3F9C8EDE#32
  | 121 => 0x3EA99557#32
  | 122 => 0xBF10266A#32
  | 123 => 0x3F03C172#32
  | 124 => 0x3C63A90C#32
  | 125 => 0xBF00F52F#32
  | 126 => 0xBEBA6D0B#32
  | 127 => 0xBFA13D3E#32
  | _ => 0#32

noncomputable abbrev lit0t0_108 (i : Nat) : BitVec 32 := match i % 128 with
  | 0 => 0xBE30D972#32
  | 1 => 0xBFA6736A#32
  | 2 => 0x3FEE227B#32
  | 3 => 0x3F140EC4#32
  | 4 => 0x3E68243C#32
  | 5 => 0xBE14813D#32
  | 6 => 0x40050860#32
  | 7 => 0x3F8A99FF#32
  | 8 => 0x3FAAC377#32
  | 9 => 0xBF88D75E#32
  | 10 => 0x400EFA33#32
  | 11 => 0x3E58CA55#32
  | 12 => 0x3F18F2EA#32
  | 13 => 0x3FB38647#32
  | 14 => 0xBF897F41#32
  | 15 => 0xBF526F40#32
  | 16 => 0x3F39B4C7#32
  | 17 => 0x3FD85290#32
  | 18 => 0x40E32E06#32
  | 19 => 0x3F921765#32
  | 20 => 0x3FBBDF3A#32
  | 21 => 0x3F45550B#32
  | 22 => 0x3F033922#32
  | 23 => 0x3E2C44EF#32
  | 24 => 0xBFAB4CDC#32
  | 25 => 0x3FA6150A#32
  | 26 => 0xBF7CB044#32
  | 27 => 0xBF0A1542#32
  | 28 => 0x3DE2058B#32
  | 29 => 0xBF6D030C#32
  | 30 => 0xBD9B1965#32
  | 31 => 0x40294799#32
  | 32 => 0x3F6B35AA#32
  | 33 => 0x3F2131E6#32
  | 34 => 0x3FDB73B2#32
  | 35 => 0x4042E3BB#32
  | 36 => 0xBEADF142#32
  | 37 => 0xBE1DC1FD#32
  | 38 => 0x3F0E3209#32
  | 39 => 0x401CA1A1#32
  | 40 => 0x3F523583#32
  | 41 => 0x3FE12D10#32
  | 42 => 0x3F7AF5CA#32
  | 43 => 0xBF4592F1#32
  | 44 => 0xBF977B53#32
  | 45 => 0x3D8099F0#32
  | 46 => 0xBFDC830A#32
  | 47 => 0xBE92233A#32
  | 48 => 0xBF3CBA23#32
  | 49 => 0x3BDF5A6E#32
  | 50 => 0x3FA8DF38#32
  | 51 => 0x3F23CDFF#32
  | 52 => 0xBED733F5#32
  | 53 => 0x3F69FBE6#32
  | 54 => 0x3FF783AC#32
  | 55 => 0x404C723F#32
  | 56 => 0x3F7F4152#32
  | 57 => 0xBF22100C#32
  | 58 => 0x3F720EA0#32
  | 59 => 0xBDD721D2#32
  | 60 => 0xBF32733F#32
  | 61 => 0x3EC7EDBD#32
  | 62 => 0x40124166#32
  | 63 => 0x3F4CF868#32
  | 64 => 0xBF958520#32
  | 65 => 0x3FADD5CB#32
  | 66 => 0x3F34E97D#32
  | 67 => 0xBEF9E770#32
  | 68 => 0xBF700D83#32
  | 69 => 0x3ED60ACB#32
  | 70 => 0xBEA39DEF#32
  | 71 => 0xBE77A93C#32
  | 72 => 0xBE21385A#32
  | 73 => 0x4092C722#32
  | 74 => 0x3FDE69CC#32
  | 75 => 0xBDAD305F#32
  | 76 => 0xBF613E48#32
  | 77 => 0xBF26F196#32
  | 78 => 0x3F3D75DE#32
  | 79 => 0x408C0BE2#32
  | 80 => 0x3F9AA44A#32
  | 81 => 0x3FC01F58#32
  | 82 => 0xBFB07F77#32
  | 83 => 0x3FCC73EF#32
  | 84 => 0xBF83FEF2#32
  | 85 => 0xBDFA1100#32
  | 86 => 0x402ABB06#32
  | 87 => 0x3CB365F9#32
  | 88 => 0x3F91DDE6#32
  | 89 => 0xBE8D091E#32
  | 90 => 0x3EED0CC9#32
  | 91 => 0xBF01D2B6#32
  | 92 => 0x3F411357#32
  | 93 => 0xBF92268E#32
  | 94 => 0x4029C56E#32
  | 95 => 0x40131A63#32
  | 96 => 0x3F3D0288#32
  | 97 => 0x3F067AE3#32
  | 98 => 0x3F6073C2#32
  | 99 => 0x3EAE94D6#32
  | 100 => 0x3F7935F9#32
  | 101 => 0x3FE04848#32
  | 102 => 0x40740E0A#32
  | 103 => 0x3C0B461C#32
  | 104 => 0x3F8BD439#32
  | 105 => 0x40B9EEFE#32
  | 106 => 0x3FCDBFAC#32
  | 107 => 0x3F919E23#32
  | 108 => 0x3DA2D658#32
  | 109 => 0x3F0755E1#32
  | 110 => 0x3FB2E06C#32
  | 111 => 0xBF0011E4#32
  | 112 => 0x3F2804B5#32
  | 113 => 0xBD703377#32
  | 114 => 0x40113D92#32
  | 115 => 0x3F8CA79E#32
  | 116 => 0xBF35F4C8#32
  | 117 => 0x40308CA6#32
  | 118 => 0x3C07FE15#32
  | 119 => 0xBEE8153E#32
  | 120 => 0xBF31587D#32
  | 121 => 0xBF4121F8#32
  | 122 => 0xBEB19E8B#32
  | 123 => 0x3F7E0E99#32
  | 124 => 0x3F05F992#32
  | 125 => 0x403DB772#32
  | 126 => 0x3F8B9111#32
  | 127 => 0xBEC91440#32
  | _ => 0#32

noncomputable abbrev lit0t0_109 (i : Nat) : BitVec 32 := match i % 128 with
  | 0 => 0xBEC142B6#32
  | 1 => 0xBE60A678#32
  | 2 => 0x3F62FD8E#32
  | 3 => 0x3F341EB0#32
  | 4 => 0x3EB6AA64#32
  | 5 => 0x3F3767C1#32
  | 6 => 0xBDC38D77#32
  | 7 => 0x404CE9E9#32
  | 8 => 0x3D65239A#32
  | 9 => 0xBEB9E364#32
  | 10 => 0xBE83F014#32
  | 11 => 0x3E00557B#32
  | 12 => 0x403B42CE#32
  | 13 => 0x3C44480A#32
  | 14 => 0x3FA5EFAF#32
  | 15 => 0x3FE562F9#32
  | 16 => 0x3F224720#32
  | 17 => 0xBF57E410#32
  | 18 => 0x3D8592C2#32
  | 19 => 0x4015DE9A#32
  | 20 => 0xBF88BCF4#32
  | 21 => 0x3ED8A7A8#32
  | 22 => 0xBF311C63#32
  | 23 => 0x3FB2BD79#32
  | 24 => 0x3F57AC04#32
  | 25 => 0xBF9815EA#32
  | 26 => 0x3F392660#32
  | 27 => 0x3F338BCF#32
  | 28 => 0xBE993B0D#32
  | 29 => 0xBE7E9AED#32
  | 30 => 0xBE57DD5F#32
  | 31 => 0x3D38C17A#32
  | 32 => 0x3E02E2E2#32
  | 33 => 0xBF83AF8F#32
  | 34 => 0x3FE6C2A4#32
  | 35 => 0xBF52AFE0#32
  | 36 => 0x3F6852D4#32
  | 37 => 0xBF8244F7#32
  | 38 => 0x3EF14681#32
  | 39 => 0x3F91B784#32
  | 40 => 0xBF077752#32
  | 41 => 0x3EF50F1E#32
  | 42 => 0x3FD21E72#32
  | 43 => 0x3F3728A3#32
  | 44 => 0x3E33DAFE#32
  | 45 => 0xBED85019#32
  | 46 => 0x3EE82C6E#32
  | 47 => 0xBCB0AFF0#32
  | 48 => 0xBED81058#32
  | 49 => 0xBF328415#32
  | 50 => 0x3E969482#32
  | 51 => 0x3FAA6453#32
  | 52 => 0xBE8A1161#32
  | 53 => 0x3FC587D4#32
  | 54 => 0x3FBD2DF9#32
  | 55 => 0xBE53AA29#32
  | 56 => 0x3F75C32A#32
  | 57 => 0x3FDA3474#32
  | 58 => 0x3F4A6688#32
  | 59 => 0x3F35C8E6#32
  | 60 => 0xBF22B923#32
  | 61 => 0x3F9CD0D8#32
  | 62 => 0x3F964535#32
  | 63 => 0xBFA8D6D3#32
  | 64 => 0x3F99B01E#32
  | 65 => 0xBF36FB4D#32
  | 66 => 0x3F971A84#32
  | 67 => 0x3FB5961C#32
  | 68 => 0x3FB05745#32
  | 69 => 0x3FAB03BD#32
  | 70 => 0x3FE0D3FD#32
  | 71 => 0x3FCFC579#32
  | 72 => 0x3E2FA35C#32
  | 73 => 0xBF441240#32
  | 74 => 0x3E77209D#32
  | 75 => 0xBFA04D46#32
  | 76 => 0xBED96E98#32
  | 77 => 0x3F1387C8#32
  | 78 => 0xBF428C8B#32
  | 79 => 0x4022403C#32
  | 80 => 0xBE49A198#32
  | 81 => 0x402BB11E#32
  | 82 => 0x3E2CE32A#32
  | 83 => 0x405E9E0F#32
  | 84 => 0x3F39B1B0#32
  | 85 => 0x3F44EFC9#32
  | 86 => 0x3DFBA2AC#32
  | 87 => 0x4084AC6E#32
  | 88 => 0xBF3BF29A#32
  | 89 => 0x3F27612F#32
  | 90 => 0xBF36DD10#32
  | 91 => 0x3FFD8037#32
  | 92 => 0x3F9E8427#32
  | 93 => 0xBF05AD06#32
  | 94 => 0x3EE074ED#32
  | 95 => 0x3F017651#32
  | 96 => 0x4052CD43#32
  | 97 => 0x3FA54AF1#32
  | 98 => 0x3FEFC9C1#32
  | 99 => 0x3D2C8271#32
  | 100 => 0xBFD37EF1#32
  | 101 => 0x3EA0E046#32
  | 102 => 0xBF61E74E#32
  | 103 => 0x3E1AAEFC#32
  | 104 => 0xBE8DC2C8#32
  | 105 => 0xBEAF6145#32
  | 106 => 0x40214957#32
  | 107 => 0x3F19D787#32
  | 108 => 0x3FA24358#32
  | 109 => 0xBEDF27CD#32
  | 110 => 0x401746BE#32
  | 111 => 0x3FDEE128#32
  | 112 => 0x3F1FD568#32
  | 113 => 0x40030FDC#32
  | 114 => 0x3ECED7A8#32
  | 115 => 0x3E413724#32
  | 116 => 0xBF996902#32
  | 117 => 0x3F3F39E1#32
  | 118 => 0x3EEE4B9E#32
  | 119 => 0xB962B9B9#32
  | 120 => 0xBEE497C8#32
  | 121 => 0xBF59ED6F#32
  | 122 => 0x4039C128#32
  | 123 => 0xBE7421F6#32
  | 124 => 0x400F35AB#32
  | 125 => 0xBFCE0F2D#32
  | 126 => 0xBD704CEE#32
  | 127 => 0x3F152C96#32
  | _ => 0#32

noncomputable abbrev lit0t0_110 (i : Nat) : BitVec 32 := match i % 128 with
  | 0 => 0xBF568E33#32
  | 1 => 0x3ECF9219#32
  | 2 => 0x3C48CE3D#32
  | 3 => 0x3F341592#32
  | 4 => 0x4003F0BF#32
  | 5 => 0x40396E64#32
  | 6 => 0x40651348#32
  | 7 => 0xBFC6313A#32
  | 8 => 0x3FDBE224#32
  | 9 => 0xBCC094EF#32
  | 10 => 0xBF5CB569#32
  | 11 => 0x3FEF04AF#32
  | 12 => 0x3E8B59BE#32
  | 13 => 0xBFDA0BD3#32
  | 14 => 0xBF9CF0E8#32
  | 15 => 0xBDF7BE3D#32
  | 16 => 0x40016667#32
  | 17 => 0x3FB3F739#32
  | 18 => 0xBEB256FF#32
  | 19 => 0xBE9B41D3#32
  | 20 => 0x3FB0E8A6#32
  | 21 => 0xBED30558#32
  | 22 => 0x3F14A4A0#32
  | 23 => 0xBE5C80D2#32
  | 24 => 0xBF3A00D5#32
  | 25 => 0xBFC80E29#32
  | 26 => 0x3D362B9C#32
  | 27 => 0x3FB58E61#32
  | 28 => 0x40439F4B#32
  | 29 => 0xBFBA750D#32
  | 30 => 0x3EFDD13E#32
  | 31 => 0x3E094414#32
  | 32 => 0x3E457434#32
  | 33 => 0x3EDB93AD#32
  | 34 => 0x3D3D7DBD#32
  | 35 => 0xBE6829F6#32
  | 36 => 0x3F277D8A#32
  | 37 => 0x3CC63D81#32
  | 38 => 0x4062D00C#32
  | 39 => 0x3F98BAD5#32
  | 40 => 0x3FB3B84E#32
  | 41 => 0xBF10329A#32
  | 42 => 0x3F0ECEC4#32
  | 43 => 0x3E08ACD9#32
  | 44 => 0x3E801AD1#32
  | 45 => 0x3F0E2AB7#32
  | 46 => 0xBF0A177C#32
  | 47 => 0xBFB663E8#32
  | 48 => 0x3FE2B4A0#32
  | 49 => 0x3FB24105#32
  | 50 => 0x3E930E14#32
  | 51 => 0xBF481944#32
  | 52 => 0xBE8E7D9A#32
  | 53 => 0x3EA8673D#32
  | 54 => 0xBF645B7F#32
  | 55 => 0x3E55F084#32
  | 56 => 0x3F27EA23#32
  | 57 => 0xBFDC17F4#32
  | 58 => 0x3F25851A#32
  | 59 => 0x4005CD72#32
  | 60 => 0x3EFC2DFC#32
  | 61 => 0xBFC225F8#32
  | 62 => 0xBEFA2ECF#32
  | 63 => 0x4042361F#32
  | 64 => 0x3F8B9F62#32
  | 65 => 0x3E084963#32
  | 66 => 0x3F8F3066#32
  | 67 => 0x3FDEF65A#32
  | 68 => 0xBF2659E0#32
  | 69 => 0x3F5A70E4#32
  | 70 => 0x3FFB2EFA#32
  | 71 => 0xBF060E48#32
  | 72 => 0x3F527343#32
  | 73 => 0xBF35444E#32
  | 74 => 0x3E9F97FC#32
  | 75 => 0xBD75B09A#32
  | 76 => 0x3ECC7F6C#32
  | 77 => 0xBF0402DF#32
  | 78 => 0xBE324A29#32
  | 79 => 0x3FC401A6#32
  | 80 => 0xBF8790FD#32
  | 81 => 0x3EB700EF#32
  | 82 => 0x3FB3DDD1#32
  | 83 => 0x40047CDB#32
  | 84 => 0x3E0B53C2#32
  | 85 => 0xBF813B4D#32
  | 86 => 0x3F12ECD7#32
  | 87 => 0xBFC8A08F#32
  | 88 => 0xBF6D3F88#32
  | 89 => 0x408C707C#32
  | 90 => 0xBECD4259#32
  | 91 => 0xBD5E0F32#32
  | 92 => 0xBF837583#32
  | 93 => 0x3F0A6382#32
  | 94 => 0x40147036#32
  | 95 => 0x3FD60E88#32
  | 96 => 0x4029C3EA#32
  | 97 => 0x3F0DED4D#32
  | 98 => 0x3FADBA3D#32
  | 99 => 0x40A69917#32
  | 100 => 0xBF84BC82#32
  | 101 => 0x3FE38A9E#32
  | 102 => 0xBE3DE3A6#32
  | 103 => 0x3EA58176#32
  | 104 => 0x403A3CDA#32
  | 105 => 0xBEA73B07#32
  | 106 => 0xBF72CB2A#32
  | 107 => 0x3F8E2208#32
  | 108 => 0x3FA91400#32
  | 109 => 0xBF246D2D#32
  | 110 => 0x3F3FAD30#32
  | 111 => 0x3F4A5B6B#32
  | 112 => 0x3F036AE0#32
  | 113 => 0xBF769FA6#32
  | 114 => 0x3F9225D7#32
  | 115 => 0xBF38DB9F#32
  | 116 => 0x3E96BEB4#32
  | 117 => 0x3E3B9413#32
  | 118 => 0x400364F2#32
  | 119 => 0xBE8063FD#32
  | 120 => 0x3FB10CC3#32
  | 121 => 0x3FFB6C19#32
  | 122 => 0xBEDDCE67#32
  | 123 => 0x3EE2420A#32
  | 124 => 0x4012F9B5#32
  | 125 => 0xBE32D066#32
  | 126 => 0x40223057#32
  | 127 => 0x402CE1DC#32
  | _ => 0#32

noncomputable abbrev lit0t0_111 (i : Nat) : BitVec 32 := match i % 128 with
  | 0 => 0xBF014F24#32
  | 1 => 0x404F94C1#32
  | 2 => 0x3EE44B98#32
  | 3 => 0xBF16F0D0#32
  | 4 => 0xBF298BC8#32
  | 5 => 0x3F141E6F#32
  | 6 => 0x3FE2F16C#32
  | 7 => 0xBECA51C6#32
  | 8 => 0x3F824633#32
  | 9 => 0xBEE64B20#32
  | 10 => 0x3EB5955C#32
  | 11 => 0x400A0D80#32
  | 12 => 0x40577EAA#32
  | 13 => 0x3F4B7887#32
  | 14 => 0xBF984BC4#32
  | 15 => 0xBFBA85A1#32
  | 16 => 0x3F064AC9#32
  | 17 => 0x401FC747#32
  | 18 => 0xBD813458#32
  | 19 => 0x3E04D2A3#32
  | 20 => 0x3F406B2E#32
  | 21 => 0x404AD925#32
  | 22 => 0xBF9BB460#32
  | 23 => 0x3FB27689#32
  | 24 => 0xBDB23BA2#32
  | 25 => 0x3FF870B3#32
  | 26 => 0x3ECCB18C#32
  | 27 => 0xBE4A5DE7#32
  | 28 => 0xBF23BADA#32
  | 29 => 0x3F52A044#32
  | 30 => 0x401D56D7#32
  | 31 => 0xBF52F88B#32
  | 32 => 0x3F2B98CA#32
  | 33 => 0x3DCC4C67#32
  | 34 => 0x3BFD5185#32
  | 35 => 0x3DF7BC44#32
  | 36 => 0xBE556C5F#32
  | 37 => 0xBF35DC92#32
  | 38 => 0x3D303225#32
  | 39 => 0x3FB712C6#32
  | 40 => 0x3CC8328A#32
  | 41 => 0x3E071B00#32
  | 42 => 0xBF56B8E2#32
  | 43 => 0xBF1EDBC5#32
  | 44 => 0x3F153929#32
  | 45 => 0x3DF82ACF#32
  | 46 => 0x40076A7E#32
  | 47 => 0x3E4A0CF9#32
  | 48 => 0x3F311BAB#32
  | 49 => 0xBF4C0F87#32
  | 50 => 0x401BFD72#32
  | 51 => 0x3FB2DE23#32
  | 52 => 0x3F05A15D#32
  | 53 => 0x3F8AF73A#32
  | 54 => 0xBF8A5CEB#32
  | 55 => 0xBE071A44#32
  | 56 => 0x3D1349C0#32
  | 57 => 0x3EB98DB5#32
  | 58 => 0x3FADE8BC#32
  | 59 => 0x404F48E7#32
  | 60 => 0xBED77FF2#32
  | 61 => 0x3E35122D#32
  | 62 => 0x3F4FFEEF#32
  | 63 => 0xBEC7449E#32
  | 64 => 0x3F1C8805#32
  | 65 => 0xBF304F94#32
  | 66 => 0x3F1513E9#32
  | 67 => 0xBF6159EA#32
  | 68 => 0x3F0721FB#32
  | 69 => 0x3F790772#32
  | 70 => 0xBF6C19BD#32
  | 71 => 0x3F271826#32
  | 72 => 0xBE6AFD91#32
  | 73 => 0xBCBF38B0#32
  | 74 => 0x3F4F0E68#32
  | 75 => 0x3F2E64E5#32
  | 76 => 0x3FBA0016#32
  | 77 => 0x3CFAAD6D#32
  | 78 => 0xBF2C7408#32
  | 79 => 0x3F76AFCA#32
  | 80 => 0x4047116F#32
  | 81 => 0x3F22C8CD#32
  | 82 => 0x408BFEAD#32
  | 83 => 0xBF9B6DED#32
  | 84 => 0xBF54CE0D#32
  | 85 => 0x3FC143E6#32
  | 86 => 0xBEF016A1#32
  | 87 => 0xBF457214#32
  | 88 => 0x3F32FD5A#32
  | 89 => 0xBF17DC35#32
  | 90 => 0x4073409D#32
  | 91 => 0xBF271523#32
  | 92 => 0xBF1BDE7C#32
  | 93 => 0xBF5F35B8#32
  | 94 => 0x3B77706F#32
  | 95 => 0x3F3F419D#32
  | 96 => 0xBEA619A0#32
  | 97 => 0x3CA4114D#32
  | 98 => 0xBF2B2BEC#32
  | 99 => 0xBF811FE2#32
  | 100 => 0x3EA316B0#32
  | 101 => 0x3E876A34#32
  | 102 => 0x3F66A649#32
  | 103 => 0x3EE7A02C#32
  | 104 => 0x4033D5D4#32
  | 105 => 0xB9901AEE#32
  | 106 => 0x403695CC#32
  | 107 => 0xBF6BB272#32
  | 108 => 0x3D9999B2#32
  | 109 => 0x3F71C801#32
  | 110 => 0x3FFE0FFB#32
  | 111 => 0x3F912472#32
  | 112 => 0x3FB9B6A3#32
  | 113 => 0xBF0CA205#32
  | 114 => 0x402F1BC2#32
  | 115 => 0xBEA96122#32
  | 116 => 0x400047CF#32
  | 117 => 0xBF52D514#32
  | 118 => 0xBFAD56AF#32
  | 119 => 0x3EF09F8A#32
  | 120 => 0x403EAC27#32
  | 121 => 0xBE56304A#32
  | 122 => 0x3E3ED872#32
  | 123 => 0x40757544#32
  | 124 => 0x3FCF2D1F#32
  | 125 => 0xBF9E410A#32
  | 126 => 0xBF6D2890#32
  | 127 => 0x401454C6#32
  | _ => 0#32

noncomputable abbrev lit0t0_112 (i : Nat) : BitVec 32 := match i % 128 with
  | 0 => 0xBE017391#32
  | 1 => 0x3F6C4251#32
  | 2 => 0x3EB759BD#32
  | 3 => 0xBE832697#32
  | 4 => 0x3FFFF86D#32
  | 5 => 0x3E510B30#32
  | 6 => 0x3F10D4AD#32
  | 7 => 0xBFBD8FAD#32
  | 8 => 0x4020C92A#32
  | 9 => 0x3F885009#32
  | 10 => 0x3E632D62#32
  | 11 => 0x3FA1D5EB#32
  | 12 => 0x3F4E7870#32
  | 13 => 0x3EF99263#32
  | 14 => 0x4077E2CB#32
  | 15 => 0x3FA38DE3#32
  | 16 => 0xBE7CE0F4#32
  | 17 => 0x3FAF88FC#32
  | 18 => 0x400B0F57#32
  | 19 => 0x401686C5#32
  | 20 => 0xBF80E2F4#32
  | 21 => 0x3F0211ED#32
  | 22 => 0x40D49D5A#32
  | 23 => 0x3FFA45B4#32
  | 24 => 0x400B7AEF#32
  | 25 => 0x3FA67580#32
  | 26 => 0x3F958CD0#32
  | 27 => 0x400C9F1B#32
  | 28 => 0xBF11C337#32
  | 29 => 0xBEDE5D40#32
  | 30 => 0xBD64A82B#32
  | 31 => 0x3FDCE590#32
  | 32 => 0x3FF07041#32
  | 33 => 0xBD7CCBF5#32
  | 34 => 0xBF8BC054#32
  | 35 => 0x3E921F34#32
  | 36 => 0x3FCF6391#32
  | 37 => 0x3E354365#32
  | 38 => 0xBD648DB0#32
  | 39 => 0x400EF6EE#32
  | 40 => 0xBFD4E383#32
  | 41 => 0x4030FB4F#32
  | 42 => 0xBEF10C9C#32
  | 43 => 0x3FA63E7E#32
  | 44 => 0x3D88BBAC#32
  | 45 => 0xBF3F8C79#32
  | 46 => 0xBEC24B46#32
  | 47 => 0xBDF3938D#32
  | 48 => 0x3EFCA44C#32
  | 49 => 0x3FF06F09#32
  | 50 => 0x3E4E8490#32
  | 51 => 0x4002F755#32
  | 52 => 0xBE80C420#32
  | 53 => 0x3EAC60A3#32
  | 54 => 0x3F12C16E#32
  | 55 => 0x3F295734#32
  | 56 => 0x3DEBAE4B#32
  | 57 => 0x3F92B6D8#32
  | 58 => 0xBF094E3C#32
  | 59 => 0x404C8119#32
  | 60 => 0x40212A58#32
  | 61 => 0xBE51C586#32
  | 62 => 0x3FDF1388#32
  | 63 => 0xBFC13705#32
  | 64 => 0x3F928B06#32
  | 65 => 0x3F3B3528#32
  | 66 => 0x3F0D8693#32
  | 67 => 0xBEE71FDC#32
  | 68 => 0x3F7B0840#32
  | 69 => 0x3F5A9FE1#32
  | 70 => 0x3E38DF95#32
  | 71 => 0x40179ACF#32
  | 72 => 0x3EB27F40#32
  | 73 => 0x3F2E05C9#32
  | 74 => 0x400C96B8#32
  | 75 => 0x406D4807#32
  | 76 => 0xBFA34A57#32
  | 77 => 0x3E455544#32
  | 78 => 0x3FEFE2F8#32
  | 79 => 0x3E929CF9#32
  | 80 => 0x3E1936D2#32
  | 81 => 0x3ECDA8FF#32
  | 82 => 0xBF4BC41E#32
  | 83 => 0x4029B2E2#32
  | 84 => 0x3D3A5BB5#32
  | 85 => 0xBFE31FCF#32
  | 86 => 0x3F7270D7#32
  | 87 => 0x3E1951DC#32
  | 88 => 0x3EE96256#32
  | 89 => 0xBF8B459C#32
  | 90 => 0xBF12A892#32
  | 91 => 0xBF9D99E4#32
  | 92 => 0xBF968299#32
  | 93 => 0xBDB9B4E9#32
  | 94 => 0x3DB2FADB#32
  | 95 => 0xBF376BC4#32
  | 96 => 0x3F87D816#32
  | 97 => 0x3FC13DFE#32
  | 98 => 0x4075D33D#32
  | 99 => 0x3E314605#32
  | 100 => 0x3EFCD2D2#32
  | 101 => 0x3FF6BCF2#32
  | 102 => 0x3DE29BC3#32
  | 103 => 0xBFBDB89A#32
  | 104 => 0x3F818262#32
  | 105 => 0x3F6B94E6#32
  | 106 => 0x3E29F7FC#32
  | 107 => 0x3F714625#32
  | 108 => 0xBF8018AF#32
  | 109 => 0x3CA810F9#32
  | 110 => 0x40283186#32
  | 111 => 0x3FC915B5#32
  | 112 => 0x3EC581A6#32
  | 113 => 0x3F677AE0#32
  | 114 => 0xBE84F889#32
  | 115 => 0xBF1CBB3F#32
  | 116 => 0xBDF2B434#32
  | 117 => 0x3ED616AD#32
  | 118 => 0xBED78874#32
  | 119 => 0x3FBE1BD2#32
  | 120 => 0x3F599057#32
  | 121 => 0xBFCD9E26#32
  | 122 => 0xBE890208#32
  | 123 => 0x3F9AD47A#32
  | 124 => 0x3E63AE78#32
  | 125 => 0xBFBD3B6A#32
  | 126 => 0x3BD65915#32
  | 127 => 0xBF8674FA#32
  | _ => 0#32

noncomputable abbrev lit0t0_113 (i : Nat) : BitVec 32 := match i % 128 with
  | 0 => 0x3E2947FF#32
  | 1 => 0x3DB2EB82#32
  | 2 => 0x3FC266AA#32
  | 3 => 0x40022B14#32
  | 4 => 0x3F3BC113#32
  | 5 => 0xBDF79426#32
  | 6 => 0x3EB7E042#32
  | 7 => 0x3ED0F0F9#32
  | 8 => 0x3FBAB693#32
  | 9 => 0x3EFBBC54#32
  | 10 => 0x3F7DE870#32
  | 11 => 0x3F0ACA34#32
  | 12 => 0xBD1E8D8B#32
  | 13 => 0x3F851F02#32
  | 14 => 0xBF508389#32
  | 15 => 0xBE5E600A#32
  | 16 => 0xBEA185C3#32
  | 17 => 0x3FB99772#32
  | 18 => 0x408F9CE3#32
  | 19 => 0x3F2BED7E#32
  | 20 => 0x3FEFD5FA#32
  | 21 => 0xBEDE165F#32
  | 22 => 0xBDA54896#32
  | 23 => 0xBEB46040#32
  | 24 => 0xBEEFA754#32
  | 25 => 0x3FC69E98#32
  | 26 => 0x407BE5A4#32
  | 27 => 0xBF83EB96#32
  | 28 => 0x3F2B9BAB#32
  | 29 => 0xBEA32CF7#32
  | 30 => 0x3E2B253D#32
  | 31 => 0x3F16837E#32
  | 32 => 0x3E08606F#32
  | 33 => 0x3E9A0BD8#32
  | 34 => 0xBFB3ED5A#32
  | 35 => 0x4031F92D#32
  | 36 => 0x3FB9D307#32
  | 37 => 0x3FB6F693#32
  | 38 => 0x3EEE2616#32
  | 39 => 0x3FCCEAD3#32
  | 40 => 0x3E44FE38#32
  | 41 => 0x3D2F3B47#32
  | 42 => 0x3DCB6DCF#32
  | 43 => 0x3E9E9DEB#32
  | 44 => 0xBF505C81#32
  | 45 => 0x4004E627#32
  | 46 => 0xBD5B98FB#32
  | 47 => 0x3F2F2A95#32
  | 48 => 0x3EA4494F#32
  | 49 => 0x3FAD12EA#32
  | 50 => 0x4003750B#32
  | 51 => 0x3F9C5863#32
  | 52 => 0xBED76D98#32
  | 53 => 0xBF4B9C84#32
  | 54 => 0x3F65C788#32
  | 55 => 0x4006139D#32
  | 56 => 0xBEA6FBA5#32
  | 57 => 0x401882BD#32
  | 58 => 0xBE0E12D9#32
  | 59 => 0xBF80DF14#32
  | 60 => 0x3DBECC89#32
  | 61 => 0x3F968318#32
  | 62 => 0x3EFFFC50#32
  | 63 => 0xBF181EEF#32
  | 64 => 0xBEEE4336#32
  | 65 => 0xBE701205#32
  | 66 => 0x3E392204#32
  | 67 => 0x3F18CD9A#32
  | 68 => 0x3E7F6D14#32
  | 69 => 0xBF0FEB31#32
  | 70 => 0xBE058BDC#32
  | 71 => 0xBE8074A6#32
  | 72 => 0x3FC0CF25#32
  | 73 => 0xBF687377#32
  | 74 => 0x3E9BA15B#32
  | 75 => 0x3EBF2BEC#32
  | 76 => 0xBFDAE691#32
  | 77 => 0xBD24A1AE#32
  | 78 => 0x3EE9D9F2#32
  | 79 => 0xBF489D69#32
  | 80 => 0x3F569F92#32
  | 81 => 0x3EFB4DA3#32
  | 82 => 0xBF5566A7#32
  | 83 => 0x3FB3533A#32
  | 84 => 0x3FB093F9#32
  | 85 => 0xBF45EC49#32
  | 86 => 0x40059D57#32
  | 87 => 0x3FA216A0#32
  | 88 => 0xBE85D2DA#32
  | 89 => 0x400D19EA#32
  | 90 => 0xBFC2A59A#32
  | 91 => 0xBF12DDDD#32
  | 92 => 0x3FC47F13#32
  | 93 => 0x3F60D180#32
  | 94 => 0x3F67E517#32
  | 95 => 0xBF05158A#32
  | 96 => 0x40182F2E#32
  | 97 => 0x4004AEDA#32
  | 98 => 0x4072EDA1#32
  | 99 => 0x3F22F6EF#32
  | 100 => 0x3ED686A3#32
  | 101 => 0xBF8BB11C#32
  | 102 => 0x3EDEBF22#32
  | 103 => 0xBE3B1A73#32
  | 104 => 0x3F20E5CD#32
  | 105 => 0xBF0C3A3D#32
  | 106 => 0xBFDA719F#32
  | 107 => 0xBEAE411E#32
  | 108 => 0x3FDCCEEC#32
  | 109 => 0x3F879C49#32
  | 110 => 0xBF02C6F1#32
  | 111 => 0x3F5A73FA#32
  | 112 => 0xBF421203#32
  | 113 => 0x3FF1CE70#32
  | 114 => 0xBF20552B#32
  | 115 => 0xBF34A567#32
  | 116 => 0xBF697E46#32
  | 117 => 0x404D1878#32
  | 118 => 0x400927A9#32
  | 119 => 0x3F39D74C#32
  | 120 => 0xBED746F7#32
  | 121 => 0x40236FA9#32
  | 122 => 0xBF3F24CC#32
  | 123 => 0xBF1F67D2#32
  | 124 => 0x3F5889C1#32
  | 125 => 0x3FA34D6F#32
  | 126 => 0x3F78179E#32
  | 127 => 0x3F5EE5B0#32
  | _ => 0#32

noncomputable abbrev lit0t0_114 (i : Nat) : BitVec 32 := match i % 128 with
  | 0 => 0x3F14D31C#32
  | 1 => 0x3F4729D7#32
  | 2 => 0x3E917F5A#32
  | 3 => 0x4092A0F5#32
  | 4 => 0x3F3A2517#32
  | 5 => 0x3F210FDC#32
  | 6 => 0x3F8FE252#32
  | 7 => 0xBE66871B#32
  | 8 => 0x40116CC0#32
  | 9 => 0xBF1A7E2A#32
  | 10 => 0x3E7879E4#32
  | 11 => 0x3F616528#32
  | 12 => 0xBEA1C0A1#32
  | 13 => 0x3FB46C81#32
  | 14 => 0xBDCDB4FA#32
  | 15 => 0x3F9D7D36#32
  | 16 => 0x3FC47121#32
  | 17 => 0x3EA6E45F#32
  | 18 => 0x3E959B3E#32
  | 19 => 0xBEB0FC81#32
  | 20 => 0xBE893894#32
  | 21 => 0xBECA75DF#32
  | 22 => 0xBEA32478#32
  | 23 => 0xBF3BCAE8#32
  | 24 => 0x40372EF8#32
  | 25 => 0x3D078168#32
  | 26 => 0x3F6CA696#32
  | 27 => 0x3DE65410#32
  | 28 => 0x3F98F210#32
  | 29 => 0x3EDA5590#32
  | 30 => 0xBE9A9217#32
  | 31 => 0x3F469F2C#32
  | 32 => 0xBF088F43#32
  | 33 => 0xBF20768E#32
  | 34 => 0x3FE369D8#32
  | 35 => 0xBF309BA9#32
  | 36 => 0xBF7DA2A6#32
  | 37 => 0xBF994CC9#32
  | 38 => 0x3F3651E6#32
  | 39 => 0x3F19F3E9#32
  | 40 => 0x3EE67FE4#32
  | 41 => 0xBFB274A0#32
  | 42 => 0x3CB50C28#32
  | 43 => 0x3EEE46DA#32
  | 44 => 0xBF2C1F88#32
  | 45 => 0x3EC4FE17#32
  | 46 => 0x3FB42DAA#32
  | 47 => 0x3FA8DCA0#32
  | 48 => 0x4003E7BC#32
  | 49 => 0x3F8BA850#32
  | 50 => 0xBF3020C9#32
  | 51 => 0x3E212601#32
  | 52 => 0xBFBE4343#32
  | 53 => 0x3E0BB28C#32
  | 54 => 0xBF6C9508#32
  | 55 => 0x40328D4E#32
  | 56 => 0x406304A7#32
  | 57 => 0x40046C6D#32
  | 58 => 0x40316B3E#32
  | 59 => 0x3F679748#32
  | 60 => 0x4018E235#32
  | 61 => 0xBEEB4058#32
  | 62 => 0x3E70DE4A#32
  | 63 => 0x3EF15984#32
  | 64 => 0x3F88FF74#32
  | 65 => 0x3F71475D#32
  | 66 => 0xBF7937D7#32
  | 67 => 0xBE3A4887#32
  | 68 => 0xBFAF5C80#32
  | 69 => 0xBF0E8C10#32
  | 70 => 0x40152752#32
  | 71 => 0x401998D8#32
  | 72 => 0xBDA5D203#32
  | 73 => 0x3F959593#32
  | 74 => 0x401E4308#32
  | 75 => 0x3D6617A7#32
  | 76 => 0xBE8A9638#32
  | 77 => 0xBF556850#32
  | 78 => 0xBF09ED52#32
  | 79 => 0xBF5B01BA#32
  | 80 => 0x3D6CBAE7#32
  | 81 => 0xBF8D6490#32
  | 82 => 0x409EBE0F#32
  | 83 => 0xBF68B5EC#32
  | 84 => 0x3F3CF74D#32
  | 85 => 0xBF8E257E#32
  | 86 => 0xBFB22874#32
  | 87 => 0x4008022E#32
  | 88 => 0xBF08FDAD#32
  | 89 => 0xBD650202#32
  | 90 => 0x3C55B543#32
  | 91 => 0x3F184005#32
  | 92 => 0xBF7F6776#32
  | 93 => 0x3D281808#32
  | 94 => 0xBE20A88C#32
  | 95 => 0x3FC4A79F#32
  | 96 => 0xBF1FE530#32
  | 97 => 0xBE07F458#32
  | 98 => 0x4024F740#32
  | 99 => 0xBD47DFE2#32
  | 100 => 0x3F9995ED#32
  | 101 => 0x3E919E3F#32
  | 102 => 0x3EB550F1#32
  | 103 => 0x3F35B74F#32
  | 104 => 0xBC00255F#32
  | 105 => 0x3F0593A3#32
  | 106 => 0x3F8BBB85#32
  | 107 => 0x3FA2D6B2#32
  | 108 => 0x3C9584B1#32
  | 109 => 0xBF9A9751#32
  | 110 => 0xBEA06077#32
  | 111 => 0xBF9D33EC#32
  | 112 => 0x3F45A0C8#32
  | 113 => 0xBF3C8814#32
  | 114 => 0x4002E788#32
  | 115 => 0x3F1F88ED#32
  | 116 => 0x401F4FB2#32
  | 117 => 0x3EFCB2B8#32
  | 118 => 0xBF83D536#32
  | 119 => 0x3EBF8FA5#32
  | 120 => 0x401FCF4A#32
  | 121 => 0x3FC493AE#32
  | 122 => 0xBF1090F0#32
  | 123 => 0xBF24D145#32
  | 124 => 0xBF8F0035#32
  | 125 => 0x3EC1CA84#32
  | 126 => 0x3F39864D#32
  | 127 => 0xBF8B51F5#32
  | _ => 0#32

noncomputable abbrev lit0t0_115 (i : Nat) : BitVec 32 := match i % 128 with
  | 0 => 0xBF0A4433#32
  | 1 => 0x400532AC#32
  | 2 => 0xBF47C9A8#32
  | 3 => 0x40A1B351#32
  | 4 => 0x3F90A777#32
  | 5 => 0xBF2B8672#32
  | 6 => 0x3F98646C#32
  | 7 => 0xBFC14D07#32
  | 8 => 0x3F9C87E2#32
  | 9 => 0x3DCFA238#32
  | 10 => 0x3ECBCA9A#32
  | 11 => 0x3E917DB9#32
  | 12 => 0x40398634#32
  | 13 => 0xBE80EB41#32
  | 14 => 0xBD320CCE#32
  | 15 => 0x3E84DDC2#32
  | 16 => 0xBFBD321F#32
  | 17 => 0x3C493C55#32
  | 18 => 0x3BCE4CE7#32
  | 19 => 0xBD9D8500#32
  | 20 => 0xBF9B5263#32
  | 21 => 0x3FBFB2E2#32
  | 22 => 0xBEE87B6D#32
  | 23 => 0xBF2FED25#32
  | 24 => 0xBF321F69#32
  | 25 => 0x4012903E#32
  | 26 => 0xBE784CCB#32
  | 27 => 0xBF96CE14#32
  | 28 => 0x3F72C47E#32
  | 29 => 0x4024F8AA#32
  | 30 => 0x3FFCD058#32
  | 31 => 0x406D051B#32
  | 32 => 0x40856DFC#32
  | 33 => 0x403139C5#32
  | 34 => 0xBF8D0DD0#32
  | 35 => 0xBE12DCB3#32
  | 36 => 0x3EBA7DC5#32
  | 37 => 0x3F15948E#32
  | 38 => 0x3F2AAB94#32
  | 39 => 0xBEEC3564#32
  | 40 => 0x4008F439#32
  | 41 => 0xBEEA41AD#32
  | 42 => 0x3FE9AE52#32
  | 43 => 0x3EF609AB#32
  | 44 => 0x3D9513D9#32
  | 45 => 0xBEAFA264#32
  | 46 => 0xBE649BCB#32
  | 47 => 0x3F687442#32
  | 48 => 0xBF2493C5#32
  | 49 => 0x3FAA9CAC#32
  | 50 => 0x3F1CF6FE#32
  | 51 => 0x404CFF79#32
  | 52 => 0x3FCD5317#32
  | 53 => 0x3FC4B486#32
  | 54 => 0x3FF1E7D0#32
  | 55 => 0x4025291F#32
  | 56 => 0x3F10406E#32
  | 57 => 0x3E818251#32
  | 58 => 0x3F94CFE8#32
  | 59 => 0x3EE1A5D3#32
  | 60 => 0x3F685F08#32
  | 61 => 0xBFBA9A3E#32
  | 62 => 0xBFAB3774#32
  | 63 => 0xBF198527#32
  | 64 => 0x400D8930#32
  | 65 => 0x3F9A8B52#32
  | 66 => 0x3FE9948C#32
  | 67 => 0x3F05E691#32
  | 68 => 0x3E822164#32
  | 69 => 0x3EFEFD8F#32
  | 70 => 0x3D00BDF2#32
  | 71 => 0x3F674281#32
  | 72 => 0x3ED473D2#32
  | 73 => 0x403430B5#32
  | 74 => 0xBF9D6691#32
  | 75 => 0x3FD0EE18#32
  | 76 => 0xBD2334B4#32
  | 77 => 0xBCC888C0#32
  | 78 => 0xBE9CCEC2#32
  | 79 => 0x3FF1C73B#32
  | 80 => 0x3F436B19#32
  | 81 => 0xBF7DA704#32
  | 82 => 0x3FE489E2#32
  | 83 => 0xBD5B1559#32
  | 84 => 0x3F03F902#32
  | 85 => 0x3F4830B8#32
  | 86 => 0x3FCA4FEE#32
  | 87 => 0xBF621654#32
  | 88 => 0x3D7ECBFF#32
  | 89 => 0x402F9B5D#32
  | 90 => 0x3F5A445E#32
  | 91 => 0x3FA5FC83#32
  | 92 => 0xBE3BAEA8#32
  | 93 => 0x3FAAC835#32
  | 94 => 0x3F69FA78#32
  | 95 => 0xBEF8AECC#32
  | 96 => 0x3F36A31A#32
  | 97 => 0x3FCDBC56#32
  | 98 => 0x3FBDD0D1#32
  | 99 => 0x401BAD42#32
  | 100 => 0xBF90DC9E#32
  | 101 => 0x3FD3B6B2#32
  | 102 => 0x3F96F62A#32
  | 103 => 0x3F093B67#32
  | 104 => 0x40866EB4#32
  | 105 => 0x3F8E9AEE#32
  | 106 => 0x40021D44#32
  | 107 => 0x40408687#32
  | 108 => 0xBEEE7F9C#32
  | 109 => 0xBF7510A0#32
  | 110 => 0x3CCAD79E#32
  | 111 => 0x3DAA4EDD#32
  | 112 => 0xBF7DECFA#32
  | 113 => 0x40F06B46#32
  | 114 => 0x3F353065#32
  | 115 => 0x3FBD0A21#32
  | 116 => 0x3E92C492#32
  | 117 => 0xBFC9237A#32
  | 118 => 0xBF1A6AAD#32
  | 119 => 0x3D925E78#32
  | 120 => 0x3FAA41B6#32
  | 121 => 0xBD90BC90#32
  | 122 => 0xBF5129C2#32
  | 123 => 0x3FF4BCC4#32
  | 124 => 0x3FA88840#32
  | 125 => 0xBEF95540#32
  | 126 => 0xBF43EE16#32
  | 127 => 0x4069013A#32
  | _ => 0#32

noncomputable abbrev lit0t0_116 (i : Nat) : BitVec 32 := match i % 128 with
  | 0 => 0x3F2E5893#32
  | 1 => 0x3EA2AC0B#32
  | 2 => 0x3FA4F5DC#32
  | 3 => 0x3EA6235D#32
  | 4 => 0xBF32A5C5#32
  | 5 => 0x40051649#32
  | 6 => 0xBFB7F8ED#32
  | 7 => 0x3E0F8833#32
  | 8 => 0x3F2D74D8#32
  | 9 => 0xBF36D28F#32
  | 10 => 0xBF2AF2C4#32
  | 11 => 0xBC399FCA#32
  | 12 => 0x3FA4AB7A#32
  | 13 => 0x3EA7503F#32
  | 14 => 0xBF8C6F9F#32
  | 15 => 0x3F951E7F#32
  | 16 => 0x3FC1C34A#32
  | 17 => 0x3FA3F365#32
  | 18 => 0x3F42952C#32
  | 19 => 0x40131DC9#32
  | 20 => 0x3FFBC438#32
  | 21 => 0x3FD6A313#32
  | 22 => 0xBF8B4917#32
  | 23 => 0xBF03F058#32
  | 24 => 0x3F113BEC#32
  | 25 => 0x4015354B#32
  | 26 => 0x3E1016CD#32
  | 27 => 0xBF074283#32
  | 28 => 0x3F2053DC#32
  | 29 => 0xBF2214A2#32
  | 30 => 0x3ECA6B1C#32
  | 31 => 0x3F97B579#32
  | 32 => 0x3FC6D5A4#32
  | 33 => 0xBEDF9CA7#32
  | 34 => 0xBF4C5115#32
  | 35 => 0xBFB34A43#32
  | 36 => 0xBE530C99#32
  | 37 => 0x3F152F78#32
  | 38 => 0x3EC1A106#32
  | 39 => 0x3F9B18B6#32
  | 40 => 0xBE8F7839#32
  | 41 => 0x3E4650E9#32
  | 42 => 0x3FE31012#32
  | 43 => 0x3FA1E078#32
  | 44 => 0xBE7D2F5A#32
  | 45 => 0xBFA3CDEA#32
  | 46 => 0x3EC9E278#32
  | 47 => 0xBE0008D2#32
  | 48 => 0x3E8BB627#32
  | 49 => 0x3F9FEA0D#32
  | 50 => 0x3FCD5019#32
  | 51 => 0x40C8A706#32
  | 52 => 0x40005779#32
  | 53 => 0xBE8F6DED#32
  | 54 => 0x3ED8FF0F#32
  | 55 => 0x3FFC434B#32
  | 56 => 0x3F9B8E44#32
  | 57 => 0xBD9B7574#32
  | 58 => 0xBE99FAF1#32
  | 59 => 0x4022A8A3#32
  | 60 => 0x3FEF6E36#32
  | 61 => 0x3F6D292A#32
  | 62 => 0xBE3C2A98#32
  | 63 => 0x4004BDEE#32
  | 64 => 0x3FB0EAD5#32
  | 65 => 0x3F2F4FCE#32
  | 66 => 0xBE2BB4D8#32
  | 67 => 0x3EC3283D#32
  | 68 => 0xBD94C83F#32
  | 69 => 0x40C095AC#32
  | 70 => 0x3F8D69A0#32
  | 71 => 0xBDCE1753#32
  | 72 => 0x3E513086#32
  | 73 => 0x3FC2632E#32
  | 74 => 0x3E21DB9D#32
  | 75 => 0xBECA0332#32
  | 76 => 0x3FB2D58A#32
  | 77 => 0xBE58F610#32
  | 78 => 0x3DF1DD7D#32
  | 79 => 0x405151CC#32
  | 80 => 0x3C2A11AF#32
  | 81 => 0x3FE5C378#32
  | 82 => 0x3FF1B97F#32
  | 83 => 0xBEA73397#32
  | 84 => 0x402A66FC#32
  | 85 => 0x3FA466DC#32
  | 86 => 0xBF54366A#32
  | 87 => 0xBE5720F2#32
  | 88 => 0x407E8A7F#32
  | 89 => 0xBFD70492#32
  | 90 => 0x3F5936C2#32
  | 91 => 0x3CEA8872#32
  | 92 => 0x3F0DC877#32
  | 93 => 0x3EC0CF94#32
  | 94 => 0xBE2BE7E5#32
  | 95 => 0xBF0602D2#32
  | 96 => 0x3F1988AE#32
  | 97 => 0xBF356CC1#32
  | 98 => 0x3F344A6F#32
  | 99 => 0xBF9704EC#32
  | 100 => 0x3ECCF372#32
  | 101 => 0xBE1386BB#32
  | 102 => 0xBF98BA20#32
  | 103 => 0xBF1CEA8C#32
  | 104 => 0x3E9EB929#32
  | 105 => 0x3E6F80F4#32
  | 106 => 0x3E4ACDCF#32
  | 107 => 0xBCB1DA68#32
  | 108 => 0x3E26EB2A#32
  | 109 => 0xBEC79A39#32
  | 110 => 0x3F32A4C1#32
  | 111 => 0x3E39F1EC#32
  | 112 => 0x4017890F#32
  | 113 => 0x3F5B90BA#32
  | 114 => 0x3F7981F9#32
  | 115 => 0x3F350197#32
  | 116 => 0xBE044B89#32
  | 117 => 0x402CC84C#32
  | 118 => 0x3FFB8CF4#32
  | 119 => 0xBECF9D05#32
  | 120 => 0xBF3C6691#32
  | 121 => 0x40222180#32
  | 122 => 0x3D91E536#32
  | 123 => 0xBE632AA5#32
  | 124 => 0x3F89AD9F#32
  | 125 => 0x40957A1D#32
  | 126 => 0xBD01E0FF#32
  | 127 => 0x3F76EE09#32
  | _ => 0#32

noncomputable abbrev lit0t0_117 (i : Nat) : BitVec 32 := match i % 128 with
  | 0 => 0xBF022D5D#32
  | 1 => 0xBE13DEAD#32
  | 2 => 0x3F5999C9#32
  | 3 => 0xBEF221F0#32
  | 4 => 0x3DF4531E#32
  | 5 => 0x3F90D960#32
  | 6 => 0xBF82E169#32
  | 7 => 0x3D0B0ABE#32
  | 8 => 0x3F876790#32
  | 9 => 0x3F8DA21D#32
  | 10 => 0x4006B28D#32
  | 11 => 0x3EE344A6#32
  | 12 => 0x3F847FAE#32
  | 13 => 0xBEC56178#32
  | 14 => 0x3F55E026#32
  | 15 => 0x3D16BDB5#32
  | 16 => 0x3F26C003#32
  | 17 => 0x4052DA1A#32
  | 18 => 0x3F9066EE#32
  | 19 => 0xBB427E0C#32
  | 20 => 0x3F2D3279#32
  | 21 => 0xBEFF05BC#32
  | 22 => 0xBF2D4B69#32
  | 23 => 0xBF70250B#32
  | 24 => 0x3F006143#32
  | 25 => 0xBDF53949#32
  | 26 => 0x3EE28B24#32
  | 27 => 0x405F1233#32
  | 28 => 0xBF19DA09#32
  | 29 => 0x3E4B5CEF#32
  | 30 => 0x3E154210#32
  | 31 => 0x4035AB44#32
  | 32 => 0xBE7434F8#32
  | 33 => 0x3DA4D5F5#32
  | 34 => 0x3F11D590#32
  | 35 => 0xBE7FF600#32
  | 36 => 0xBDC0C1A5#32
  | 37 => 0x40963AEF#32
  | 38 => 0x3E909B1A#32
  | 39 => 0x3F1564E4#32
  | 40 => 0xBEB50F51#32
  | 41 => 0xBE9C97DB#32
  | 42 => 0x3F0AF1F0#32
  | 43 => 0xBE612006#32
  | 44 => 0xBD8AC79B#32
  | 45 => 0x3EC55ADE#32
  | 46 => 0x3EAA0A14#32
  | 47 => 0x3F1E9FF6#32
  | 48 => 0x405FC8DD#32
  | 49 => 0x40412017#32
  | 50 => 0x3FD90BB4#32
  | 51 => 0x402592B5#32
  | 52 => 0x3F3EAD6B#32
  | 53 => 0x3E846824#32
  | 54 => 0x40434CC6#32
  | 55 => 0xBF0D98B3#32
  | 56 => 0xBF19B877#32
  | 57 => 0x4015FC01#32
  | 58 => 0x3FE4E03E#32
  | 59 => 0x3FD42560#32
  | 60 => 0xBF72AFBB#32
  | 61 => 0xBF2C3808#32
  | 62 => 0x3FB087A3#32
  | 63 => 0xBF03A256#32
  | 64 => 0xBF08AEEC#32
  | 65 => 0x3F0E98D5#32
  | 66 => 0x3FD1CCAD#32
  | 67 => 0xBEDDFAFC#32
  | 68 => 0x3F4E9F72#32
  | 69 => 0xBEFF1E4C#32
  | 70 => 0xBE2CF79F#32
  | 71 => 0xBF7B1E59#32
  | 72 => 0xBEF9ADC8#32
  | 73 => 0x40053890#32
  | 74 => 0x3F854FEA#32
  | 75 => 0x4041BCDB#32
  | 76 => 0x3F230B9E#32
  | 77 => 0x3FE9B247#32
  | 78 => 0x3E17F3C5#32
  | 79 => 0xBF14647D#32
  | 80 => 0xBDF1EE5E#32
  | 81 => 0xBF4A78E4#32
  | 82 => 0x3FA406B9#32
  | 83 => 0x401719C0#32
  | 84 => 0x3EE32A46#32
  | 85 => 0x3FD68665#32
  | 86 => 0x3D80E3FB#32
  | 87 => 0xBE34D087#32
  | 88 => 0x3F907220#32
  | 89 => 0xBF1CA7BF#32
  | 90 => 0x40078F6B#32
  | 91 => 0xBF388158#32
  | 92 => 0x3FF9650E#32
  | 93 => 0x3E5F77DA#32
  | 94 => 0x3C7CAE41#32
  | 95 => 0xBCE67F07#32
  | 96 => 0x3FF5AABB#32
  | 97 => 0x3F018221#32
  | 98 => 0x3F11297B#32
  | 99 => 0x3EF3990F#32
  | 100 => 0x3E212696#32
  | 101 => 0x3ECDE731#32
  | 102 => 0xBEE2BC87#32
  | 103 => 0x3EA9E222#32
  | 104 => 0x3F7276A8#32
  | 105 => 0x3E578422#32
  | 106 => 0x4008D934#32
  | 107 => 0xBF085725#32
  | 108 => 0x3ED04C4A#32
  | 109 => 0xBFB58795#32
  | 110 => 0xBE86C961#32
  | 111 => 0x405BF6EF#32
  | 112 => 0x408BA7C9#32
  | 113 => 0x3FCC38BA#32
  | 114 => 0xBF8F7FA0#32
  | 115 => 0x3F85B07A#32
  | 116 => 0x3FEDD778#32
  | 117 => 0xBF15DFED#32
  | 118 => 0xBFB39BD5#32
  | 119 => 0x4054AC6E#32
  | 120 => 0xBE491961#32
  | 121 => 0x3EC62B23#32
  | 122 => 0x3FE4F3FC#32
  | 123 => 0x3F9FA92D#32
  | 124 => 0xBE838A2C#32
  | 125 => 0xBF5907D6#32
  | 126 => 0x3F9DF645#32
  | 127 => 0x3D6CFF3E#32
  | _ => 0#32

noncomputable abbrev lit0t0_118 (i : Nat) : BitVec 32 := match i % 128 with
  | 0 => 0x3FDEAE95#32
  | 1 => 0x3FD475D7#32
  | 2 => 0x3F3D3A7C#32
  | 3 => 0x3E67D01F#32
  | 4 => 0xBF92E58B#32
  | 5 => 0x3C8FB779#32
  | 6 => 0x400681FA#32
  | 7 => 0x405CB269#32
  | 8 => 0xBF719680#32
  | 9 => 0x3F663C3B#32
  | 10 => 0x400CA2DC#32
  | 11 => 0xBE492EDF#32
  | 12 => 0xBD8E6D41#32
  | 13 => 0x4049A331#32
  | 14 => 0x3ED38881#32
  | 15 => 0xBEEFCAE4#32
  | 16 => 0x3FC14ED7#32
  | 17 => 0x3F547C66#32
  | 18 => 0xBF403A69#32
  | 19 => 0x3F17B240#32
  | 20 => 0x3F89667B#32
  | 21 => 0x3DC23C1C#32
  | 22 => 0xBEA6EE2B#32
  | 23 => 0xBF5A4210#32
  | 24 => 0x3ECB83F1#32
  | 25 => 0x3FDFDFD8#32
  | 26 => 0xBEFEAF45#32
  | 27 => 0xBF7BB37F#32
  | 28 => 0x3F0EF066#32
  | 29 => 0x3FAB068A#32
  | 30 => 0x3FC0257F#32
  | 31 => 0x3F369A5C#32
  | 32 => 0xBEEBCCCB#32
  | 33 => 0x40195695#32
  | 34 => 0x3FD1C63F#32
  | 35 => 0xBE01C153#32
  | 36 => 0x3F4B6893#32
  | 37 => 0x40C68A90#32
  | 38 => 0xBF691EE4#32
  | 39 => 0xBF4793BA#32
  | 40 => 0x3E889B3B#32
  | 41 => 0x402528FB#32
  | 42 => 0xBF7532AE#32
  | 43 => 0xBF4E1C9C#32
  | 44 => 0x3F94DEA6#32
  | 45 => 0xBF8FE9C2#32
  | 46 => 0x3FE7BC15#32
  | 47 => 0x3E41C1CB#32
  | 48 => 0x3DB282FE#32
  | 49 => 0x3F9D5361#32
  | 50 => 0xBF901D62#32
  | 51 => 0x4094E583#32
  | 52 => 0xBF30FDAB#32
  | 53 => 0x3DE11ED3#32
  | 54 => 0x3FFDCC7D#32
  | 55 => 0x3F9141B2#32
  | 56 => 0x408D5187#32
  | 57 => 0x3E328424#32
  | 58 => 0xBEEB7DBC#32
  | 59 => 0xBE876AFF#32
  | 60 => 0xBF19C942#32
  | 61 => 0x3F32EB1D#32
  | 62 => 0x3FEFCA9E#32
  | 63 => 0x3F0B65D7#32
  | 64 => 0x3F26EAF4#32
  | 65 => 0x4002C9FE#32
  | 66 => 0x3FD2DD38#32
  | 67 => 0x3F82F702#32
  | 68 => 0x3FFD27CF#32
  | 69 => 0x3F25977B#32
  | 70 => 0x3F082910#32
  | 71 => 0x3F34BB5A#32
  | 72 => 0x3FE1A3DF#32
  | 73 => 0xBEA28AF6#32
  | 74 => 0x40203916#32
  | 75 => 0x3FAD7303#32
  | 76 => 0x3BDAF4DB#32
  | 77 => 0x3F0FC5E4#32
  | 78 => 0xBED24686#32
  | 79 => 0x3FB2D17E#32
  | 80 => 0x3F1149D1#32
  | 81 => 0x40074BFD#32
  | 82 => 0xBFB73AB3#32
  | 83 => 0x3E118E2B#32
  | 84 => 0xBEEEEEDA#32
  | 85 => 0xBF8062FD#32
  | 86 => 0x3FB70C33#32
  | 87 => 0x3F408437#32
  | 88 => 0x3EE15C45#32
  | 89 => 0xBEA72062#32
  | 90 => 0x3EEF4B4E#32
  | 91 => 0xBD0397E2#32
  | 92 => 0x3F03E38C#32
  | 93 => 0x3F71328D#32
  | 94 => 0x4052856E#32
  | 95 => 0x3FE6DCB0#32
  | 96 => 0x409CD98E#32
  | 97 => 0x4083B321#32
  | 98 => 0xBFA43A36#32
  | 99 => 0x3E8B3EAD#32
  | 100 => 0x3D985A79#32
  | 101 => 0x3F53D66C#32
  | 102 => 0x3F859474#32
  | 103 => 0x3F6B59D4#32
  | 104 => 0x3EE4800D#32
  | 105 => 0xBF393F61#32
  | 106 => 0x3E9732AE#32
  | 107 => 0x402DF9AA#32
  | 108 => 0x3E025849#32
  | 109 => 0x3E9D2C42#32
  | 110 => 0xBF9CE60A#32
  | 111 => 0x3FD4B398#32
  | 112 => 0x3F42FCF4#32
  | 113 => 0xBDC391F4#32
  | 114 => 0xBBE99E4D#32
  | 115 => 0xBE4BE406#32
  | 116 => 0x3F95DDDA#32
  | 117 => 0x3FC9D3D0#32
  | 118 => 0x3F313ED1#32
  | 119 => 0x40B09B97#32
  | 120 => 0x3FF71BD6#32
  | 121 => 0xBC2646C5#32
  | 122 => 0x3FC95F23#32
  | 123 => 0x402905D6#32
  | 124 => 0xBCCCF80C#32
  | 125 => 0x4003A3F6#32
  | 126 => 0xBF9A09DD#32
  | 127 => 0x3E345D91#32
  | _ => 0#32

noncomputable abbrev lit0t0_119 (i : Nat) : BitVec 32 := match i % 128 with
  | 0 => 0x409E3DAE#32
  | 1 => 0xBEFD246A#32
  | 2 => 0xBF2985F4#32
  | 3 => 0x3F941582#32
  | 4 => 0xBEADE520#32
  | 5 => 0xBE71E94F#32
  | 6 => 0xBF4E6285#32
  | 7 => 0xBF6CB7E9#32
  | 8 => 0x40016B8E#32
  | 9 => 0x3FE169B1#32
  | 10 => 0xBF905A47#32
  | 11 => 0x3E759483#32
  | 12 => 0x3F7082A8#32
  | 13 => 0xBF4DB5C1#32
  | 14 => 0xBD056784#32
  | 15 => 0xBF3A4FDB#32
  | 16 => 0x3F88A286#32
  | 17 => 0xBD95EDE8#32
  | 18 => 0x3F2789C6#32
  | 19 => 0xBE9FCF48#32
  | 20 => 0x3F841A69#32
  | 21 => 0x3F7C8AF0#32
  | 22 => 0x3F2C7FE4#32
  | 23 => 0x40306205#32
  | 24 => 0x3EF9B582#32
  | 25 => 0x4002BBE5#32
  | 26 => 0x3EE7DB4C#32
  | 27 => 0x3EBE8751#32
  | 28 => 0x3E857855#32
  | 29 => 0x402F29C7#32
  | 30 => 0xBEAB1556#32
  | 31 => 0xBD97EE0D#32
  | 32 => 0xBE3445E9#32
  | 33 => 0x3F0B32BC#32
  | 34 => 0x3E99B418#32
  | 35 => 0x3F0005EE#32
  | 36 => 0xBDBDF0EB#32
  | 37 => 0x3CC50570#32
  | 38 => 0xBF9465FA#32
  | 39 => 0xBE53B9E5#32
  | 40 => 0x3DE20EC2#32
  | 41 => 0x3E2A322C#32
  | 42 => 0xBF5509A7#32
  | 43 => 0x402C911A#32
  | 44 => 0xBD5388A9#32
  | 45 => 0x3FADE9F4#32
  | 46 => 0xBEC22014#32
  | 47 => 0xBDE1A4B8#32
  | 48 => 0xBFB18B8A#32
  | 49 => 0x3E084E71#32
  | 50 => 0xBECBD179#32
  | 51 => 0xBF79BA65#32
  | 52 => 0xBF3415C1#32
  | 53 => 0x3EC18244#32
  | 54 => 0x3ED2DC46#32
  | 55 => 0xBD63A3D5#32
  | 56 => 0x3E8AB5D6#32
  | 57 => 0xBE9EC0A7#32
  | 58 => 0x3F9BDBE4#32
  | 59 => 0xBF86DCCA#32
  | 60 => 0x3EEE2906#32
  | 61 => 0x3F53AAFD#32
  | 62 => 0x3FA2CF4C#32
  | 63 => 0xBFA46572#32
  | 64 => 0x3D5D9CE3#32
  | 65 => 0x3E5D0E11#32
  | 66 => 0x3F77B420#32
  | 67 => 0x4014C211#32
  | 68 => 0x404BB0F0#32
  | 69 => 0x3EF41A47#32
  | 70 => 0xBF81B738#32
  | 71 => 0x3F10BAF8#32
  | 72 => 0x3FADA3F6#32
  | 73 => 0xBF291FA6#32
  | 74 => 0xBEC75A11#32
  | 75 => 0x3F62A401#32
  | 76 => 0xBFD0A405#32
  | 77 => 0x40003E75#32
  | 78 => 0xBF86267B#32
  | 79 => 0xBF4303DB#32
  | 80 => 0x3EB4F218#32
  | 81 => 0x405C4CE1#32
  | 82 => 0xBFC179C2#32
  | 83 => 0x3FE74D12#32
  | 84 => 0x4028AA39#32
  | 85 => 0x3FC386E6#32
  | 86 => 0xBFB72B13#32
  | 87 => 0x3FD53A2E#32
  | 88 => 0x3E9F01A6#32
  | 89 => 0x4065FEFC#32
  | 90 => 0x3FF354E1#32
  | 91 => 0x4054E9F1#32
  | 92 => 0xBE820285#32
  | 93 => 0x3FE8B9B3#32
  | 94 => 0x3FC5F292#32
  | 95 => 0xBF32B33A#32
  | 96 => 0x3EF8EF9C#32
  | 97 => 0x4089DBEF#32
  | 98 => 0xBF8A735C#32
  | 99 => 0xBF5CDC2C#32
  | 100 => 0x40045DAC#32
  | 101 => 0x3F0638E4#32
  | 102 => 0x3FF5AF82#32
  | 103 => 0x3EDB3173#32
  | 104 => 0x3F72176F#32
  | 105 => 0xBF46B4A8#32
  | 106 => 0x3EBE8BC9#32
  | 107 => 0x405E684A#32
  | 108 => 0x407AB873#32
  | 109 => 0x3FF10DAA#32
  | 110 => 0x401A8B94#32
  | 111 => 0xBF2F8C7E#32
  | 112 => 0x3F0D9C66#32
  | 113 => 0xBF189CC5#32
  | 114 => 0xBFCA4363#32
  | 115 => 0xBF79E193#32
  | 116 => 0x3E0CB93E#32
  | 117 => 0x3F4119F6#32
  | 118 => 0x3F90C02A#32
  | 119 => 0x3DC4AB4C#32
  | 120 => 0x3F9F9346#32
  | 121 => 0xBF6B4261#32
  | 122 => 0x3F89FC04#32
  | 123 => 0xBF36D2D4#32
  | 124 => 0x3EB37B10#32
  | 125 => 0x3F349699#32
  | 126 => 0x408BFCDE#32
  | 127 => 0x3F6734D6#32
  | _ => 0#32

noncomputable abbrev lit0t0_120 (i : Nat) : BitVec 32 := match i % 128 with
  | 0 => 0x3E7A815C#32
  | 1 => 0x4016099B#32
  | 2 => 0xBF931BFC#32
  | 3 => 0x400329AE#32
  | 4 => 0x3F83EF46#32
  | 5 => 0x3FD7137F#32
  | 6 => 0x3F8C78CE#32
  | 7 => 0x3DFADF72#32
  | 8 => 0xBF441D0D#32
  | 9 => 0x3FC1F818#32
  | 10 => 0x3FC4F59D#32
  | 11 => 0xBF12017A#32
  | 12 => 0xBECAD5FE#32
  | 13 => 0xBF8BEF6E#32
  | 14 => 0x3EB64777#32
  | 15 => 0x3DB36EA7#32
  | 16 => 0x3F561883#32
  | 17 => 0xBE853E57#32
  | 18 => 0x401670B6#32
  | 19 => 0x3EDC560C#32
  | 20 => 0x3E9D324B#32
  | 21 => 0x3EEEE085#32
  | 22 => 0x3FC3CBAA#32
  | 23 => 0xBEE46510#32
  | 24 => 0x3FC74D1F#32
  | 25 => 0x3E3233AB#32
  | 26 => 0x3EF08772#32
  | 27 => 0x3E3B43CE#32
  | 28 => 0x3F4A3100#32
  | 29 => 0xBE7805D8#32
  | 30 => 0x408FDC76#32
  | 31 => 0x3FA8E75C#32
  | 32 => 0x40119920#32
  | 33 => 0xBF45630B#32
  | 34 => 0x3FD94999#32
  | 35 => 0x3E834F5F#32
  | 36 => 0xBE77BDEB#32
  | 37 => 0x40283C74#32
  | 38 => 0x3DDA5AAD#32
  | 39 => 0x3EEBEAD4#32
  | 40 => 0xBF4CB3E1#32
  | 41 => 0x3FBF976F#32
  | 42 => 0x3F926B31#32
  | 43 => 0x3ED8B2DB#32
  | 44 => 0x40172C70#32
  | 45 => 0xBF9E336B#32
  | 46 => 0x3FE0478E#32
  | 47 => 0xBF617ED9#32
  | 48 => 0xBEFB24A0#32
  | 49 => 0x4008FF3E#32
  | 50 => 0x3E29C5D1#32
  | 51 => 0xBF8AE77F#32
  | 52 => 0xBECCE2B1#32
  | 53 => 0x3F996498#32
  | 54 => 0x3E7CED74#32
  | 55 => 0x3ECD8995#32
  | 56 => 0xBF111571#32
  | 57 => 0xBE04AB10#32
  | 58 => 0x3E25F9A1#32
  | 59 => 0x405E3B63#32
  | 60 => 0xBF86EF67#32
  | 61 => 0x3F1E6741#32
  | 62 => 0x3F793242#32
  | 63 => 0xBE93BC7E#32
  | 64 => 0x3F9209B7#32
  | 65 => 0xBF97FD53#32
  | 66 => 0x3F131436#32
  | 67 => 0x3F384238#32
  | 68 => 0x3EAC6A3E#32
  | 69 => 0xBF39FA8F#32
  | 70 => 0x3F71AEF6#32
  | 71 => 0xBEFFFD86#32
  | 72 => 0x400858D1#32
  | 73 => 0xBDDCA469#32
  | 74 => 0x3F5DDB3A#32
  | 75 => 0xBD72AF5B#32
  | 76 => 0x3F909622#32
  | 77 => 0xBE9946BF#32
  | 78 => 0x3E202E23#32
  | 79 => 0xBEAAAA3C#32
  | 80 => 0x3F5E717E#32
  | 81 => 0xBF148A9E#32
  | 82 => 0x3E94C524#32
  | 83 => 0x3FBB45E9#32
  | 84 => 0x403ED6B2#32
  | 85 => 0x3EDC14A3#32
  | 86 => 0xBF3DF94C#32
  | 87 => 0xBE01D354#32
  | 88 => 0xBE2E83EF#32
  | 89 => 0x4017E6DE#32
  | 90 => 0x3F8C3045#32
  | 91 => 0xBFA4DD6B#32
  | 92 => 0x3F49F25E#32
  | 93 => 0xBED7BD42#32
  | 94 => 0x3FAEB75C#32
  | 95 => 0x3E8D248D#32
  | 96 => 0x3D3BA0E8#32
  | 97 => 0x40206FC4#32
  | 98 => 0x3E68FD4F#32
  | 99 => 0x3B69F4C7#32
  | 100 => 0x3F954596#32
  | 101 => 0xBF6DD051#32
  | 102 => 0x3F157BFC#32
  | 103 => 0xBEB430D3#32
  | 104 => 0x402021AD#32
  | 105 => 0x3AEA639E#32
  | 106 => 0x3FAA70E6#32
  | 107 => 0xBF5316AA#32
  | 108 => 0x4011613E#32
  | 109 => 0x3F641DD2#32
  | 110 => 0x3F4D17D0#32
  | 111 => 0x3E8F438D#32
  | 112 => 0xBE89A444#32
  | 113 => 0x3FA0AB61#32
  | 114 => 0xBF078DFD#32
  | 115 => 0x3FADCD86#32
  | 116 => 0x3F714A25#32
  | 117 => 0xBF8DB3A3#32
  | 118 => 0xBE1FE48A#32
  | 119 => 0xBEDE1D6D#32
  | 120 => 0x4109ACE0#32
  | 121 => 0xBEB579CF#32
  | 122 => 0x40002743#32
  | 123 => 0x3F0D3497#32
  | 124 => 0x3F0DC3CE#32
  | 125 => 0x3F414275#32
  | 126 => 0xBDD9C807#32
  | 127 => 0xBE67AE4D#32
  | _ => 0#32

noncomputable abbrev lit0t0_121 (i : Nat) : BitVec 32 := match i % 128 with
  | 0 => 0x3E38A5CA#32
  | 1 => 0x3EAF9890#32
  | 2 => 0xBF7664D0#32
  | 3 => 0xBF335FF4#32
  | 4 => 0x3FD1040A#32
  | 5 => 0x3E01873B#32
  | 6 => 0xBF2DFFE5#32
  | 7 => 0x3DB62F52#32
  | 8 => 0xBEFCC7D1#32
  | 9 => 0x3F03BEB0#32
  | 10 => 0x3F433B96#32
  | 11 => 0xBF0A099E#32
  | 12 => 0x3F8C36A6#32
  | 13 => 0xBF498B8D#32
  | 14 => 0xBE55652A#32
  | 15 => 0x3F242C7D#32
  | 16 => 0x3FCF2705#32
  | 17 => 0x3FA245D9#32
  | 18 => 0xBFAC8A33#32
  | 19 => 0xBEC6DB74#32
  | 20 => 0x3EADF6EE#32
  | 21 => 0x3FE24638#32
  | 22 => 0x3FB4156E#32
  | 23 => 0xBF89FAE7#32
  | 24 => 0x3E98FEA1#32
  | 25 => 0x3FDF06F6#32
  | 26 => 0xBF882454#32
  | 27 => 0xBF8B5930#32
  | 28 => 0x3F174BF6#32
  | 29 => 0xBF70ACBB#32
  | 30 => 0x3FA03FE3#32
  | 31 => 0x3FC886AC#32
  | 32 => 0xBFD10771#32
  | 33 => 0x402BDB29#32
  | 34 => 0xBD878437#32
  | 35 => 0xBF6F4EB2#32
  | 36 => 0xBF171E65#32
  | 37 => 0x3F790ADC#32
  | 38 => 0x3E8C6962#32
  | 39 => 0xBE2701CF#32
  | 40 => 0x3FA8596D#32
  | 41 => 0xBEA675D6#32
  | 42 => 0xBF6EA251#32
  | 43 => 0x3F2940C4#32
  | 44 => 0xBF43937E#32
  | 45 => 0xBF1BF3A5#32
  | 46 => 0x3E631232#32
  | 47 => 0x3EF1CAFF#32
  | 48 => 0x3FC8A467#32
  | 49 => 0x3F8B1EF8#32
  | 50 => 0xBF374222#32
  | 51 => 0x3F471401#32
  | 52 => 0x3F75A747#32
  | 53 => 0x3FB0D546#32
  | 54 => 0x400803D2#32
  | 55 => 0x3FFCECE2#32
  | 56 => 0x4058CD8B#32
  | 57 => 0x3E5EEDF5#32
  | 58 => 0x3FB1654F#32
  | 59 => 0xBF8C887E#32
  | 60 => 0x3F1408AA#32
  | 61 => 0xBF713CBE#32
  | 62 => 0x4083AE92#32
  | 63 => 0x3E6FD295#32
  | 64 => 0x3F5E2B6A#32
  | 65 => 0x3F87299A#32
  | 66 => 0x3FCBDE3C#32
  | 67 => 0x3F7FBFE8#32
  | 68 => 0xBF226F9B#32
  | 69 => 0x3EB05D88#32
  | 70 => 0x3F7784E0#32
  | 71 => 0x3FE5FC91#32
  | 72 => 0x3F7F6A96#32
  | 73 => 0x3F4378A5#32
  | 74 => 0xBF19BAA5#32
  | 75 => 0xBE71CF60#32
  | 76 => 0x4030CA37#32
  | 77 => 0x3E30CA8F#32
  | 78 => 0x3EDCC360#32
  | 79 => 0xBDF0D4AB#32
  | 80 => 0x3E405F21#32
  | 81 => 0x3FBFA1D4#32
  | 82 => 0x3EDEEF8E#32
  | 83 => 0xBDAC42C7#32
  | 84 => 0x3E0DB55C#32
  | 85 => 0xBE80426A#32
  | 86 => 0xBF3D0BC4#32
  | 87 => 0x3E80DD57#32
  | 88 => 0x3FB26ECE#32
  | 89 => 0xBE0FDF9E#32
  | 90 => 0x3F0F15C4#32
  | 91 => 0x3FB8CC15#32
  | 92 => 0xBF8323F2#32
  | 93 => 0xBE28EC13#32
  | 94 => 0x3EF8793F#32
  | 95 => 0x3F9274BD#32
  | 96 => 0xBF60A057#32
  | 97 => 0xBF33AB2E#32
  | 98 => 0x3DE92F06#32
  | 99 => 0x3D49E63E#32
  | 100 => 0xBF12D517#32
  | 101 => 0x3F2BBD2C#32
  | 102 => 0x3EB625E6#32
  | 103 => 0x3F56A2F7#32
  | 104 => 0x3F70CF89#32
  | 105 => 0xBF8149A2#32
  | 106 => 0xBE801EC6#32
  | 107 => 0x3FB51A86#32
  | 108 => 0x3F8393E0#32
  | 109 => 0xBFC7747C#32
  | 110 => 0xBEAF6CD8#32
  | 111 => 0xBF48745B#32
  | 112 => 0x4091E7E7#32
  | 113 => 0x4033166F#32
  | 114 => 0xBEF67491#32
  | 115 => 0x3F077F5E#32
  | 116 => 0xBF9A9FDF#32
  | 117 => 0x401578EC#32
  | 118 => 0x3F2F7865#32
  | 119 => 0x400CB3E2#32
  | 120 => 0x400F9CA7#32
  | 121 => 0xBDF96735#32
  | 122 => 0x3F539AD0#32
  | 123 => 0xBFA27968#32
  | 124 => 0x3FFC2F8C#32
  | 125 => 0x3F0891CE#32
  | 126 => 0x3F456598#32
  | 127 => 0x40158260#32
  | _ => 0#32

noncomputable abbrev lit0t0_122 (i : Nat) : BitVec 32 := match i % 128 with
  | 0 => 0x3E741249#32
  | 1 => 0xBE794F76#32
  | 2 => 0x3EB68B9C#32
  | 3 => 0xBF0F070D#32
  | 4 => 0x3F5FBE9E#32
  | 5 => 0x3F695851#32
  | 6 => 0x3E58E0CA#32
  | 7 => 0x3DA1DCB1#32
  | 8 => 0x3F450238#32
  | 9 => 0xBE486C0C#32
  | 10 => 0x3EAE42ED#32
  | 11 => 0x3F9FD1FD#32
  | 12 => 0x3F024BB8#32
  | 13 => 0x4023A470#32
  | 14 => 0x3F919516#32
  | 15 => 0x3E5126EB#32
  | 16 => 0xBE1B460B#32
  | 17 => 0x3FA6644F#32
  | 18 => 0x3F3EBA38#32
  | 19 => 0x3DA73301#32
  | 20 => 0xBF9CE0F5#32
  | 21 => 0x3EFFBD70#32
  | 22 => 0x3F953610#32
  | 23 => 0x3F44484E#32
  | 24 => 0x3E4DDFFC#32
  | 25 => 0xBF51919B#32
  | 26 => 0x3E910B2A#32
  | 27 => 0xBEF7845F#32
  | 28 => 0xBF6D7800#32
  | 29 => 0xBE8DDDD8#32
  | 30 => 0x3FC0EE9A#32
  | 31 => 0x403538EF#32
  | 32 => 0x3F1738AC#32
  | 33 => 0x3F816051#32
  | 34 => 0xBC996DA0#32
  | 35 => 0xBEED0A0C#32
  | 36 => 0x3DB6AF0C#32
  | 37 => 0x3F26269C#32
  | 38 => 0x3F4069AB#32
  | 39 => 0xBF0EE647#32
  | 40 => 0x3EA29A65#32
  | 41 => 0x40909FB1#32
  | 42 => 0xBD1CA854#32
  | 43 => 0x3D9A4202#32
  | 44 => 0xBFAD89CC#32
  | 45 => 0x3E245BDF#32
  | 46 => 0x3F99D3F8#32
  | 47 => 0x400923A2#32
  | 48 => 0xBE13AD72#32
  | 49 => 0x405C77FC#32
  | 50 => 0xBF61BA41#32
  | 51 => 0x3F874EDB#32
  | 52 => 0x3F05C05A#32
  | 53 => 0x3FB1D954#32
  | 54 => 0xBF064126#32
  | 55 => 0xBEFB9804#32
  | 56 => 0x3FA3CBE8#32
  | 57 => 0x3D42502D#32
  | 58 => 0x3F3CAD0A#32
  | 59 => 0x3DE736C1#32
  | 60 => 0xBD5A3FED#32
  | 61 => 0x3F6D0A63#32
  | 62 => 0x3F390D65#32
  | 63 => 0xBDD26813#32
  | 64 => 0x3FD862F7#32
  | 65 => 0x3F74DC3A#32
  | 66 => 0x3FEEEB2D#32
  | 67 => 0x3F129749#32
  | 68 => 0xBEA4FDD2#32
  | 69 => 0xBEB84DE7#32
  | 70 => 0xBE36F5BF#32
  | 71 => 0x3FA3E444#32
  | 72 => 0xBF0ABA17#32
  | 73 => 0x4070AC28#32
  | 74 => 0x3FAA7650#32
  | 75 => 0x3EA67BD1#32
  | 76 => 0x3F59CF6A#32
  | 77 => 0xBF3EEBEE#32
  | 78 => 0xBF078E72#32
  | 79 => 0x3FA0ABDA#32
  | 80 => 0xBE17F910#32
  | 81 => 0x3F73C75C#32
  | 82 => 0x401A16E1#32
  | 83 => 0x40CBDF3D#32
  | 84 => 0x3F0430E1#32
  | 85 => 0x3FC9C087#32
  | 86 => 0x40122E07#32
  | 87 => 0xBE0D348B#32
  | 88 => 0x3FF19118#32
  | 89 => 0x3F03A41A#32
  | 90 => 0x3FE892CC#32
  | 91 => 0x3E89D537#32
  | 92 => 0xBF88BBDE#32
  | 93 => 0xBEB2E048#32
  | 94 => 0x4064405C#32
  | 95 => 0x3E13B7FA#32
  | 96 => 0xBF9E9B7E#32
  | 97 => 0x3E75A36E#32
  | 98 => 0x3F2EEA33#32
  | 99 => 0x3F36C56F#32
  | 100 => 0x3FBC44E2#32
  | 101 => 0xBF5EEE9B#32
  | 102 => 0xBE96540E#32
  | 103 => 0x40828B01#32
  | 104 => 0x3FC23268#32
  | 105 => 0xBF069FF2#32
  | 106 => 0xBF5EF12D#32
  | 107 => 0xBEB3403E#32
  | 108 => 0x40206902#32
  | 109 => 0x3EDA78D5#32
  | 110 => 0x3F3BB1D4#32
  | 111 => 0x3FA55946#32
  | 112 => 0x4018BD96#32
  | 113 => 0x40725989#32
  | 114 => 0x40169879#32
  | 115 => 0xBF6D83ED#32
  | 116 => 0x3FAAC108#32
  | 117 => 0x3FBB3FEF#32
  | 118 => 0xBF137C92#32
  | 119 => 0xBF3EE2DF#32
  | 120 => 0x3FC228EA#32
  | 121 => 0x3FA8C352#32
  | 122 => 0x3F76C0CB#32
  | 123 => 0xBEF1B53A#32
  | 124 => 0xBEE89EBF#32
  | 125 => 0xBD991585#32
  | 126 => 0x3BC4F43A#32
  | 127 => 0xBF6C6D4A#32
  | _ => 0#32

noncomputable abbrev lit0t0_123 (i : Nat) : BitVec 32 := match i % 128 with
  | 0 => 0xBF01CDB6#32
  | 1 => 0x3F9288AD#32
  | 2 => 0x3FE80737#32
  | 3 => 0xBED4CA00#32
  | 4 => 0xBDE45856#32
  | 5 => 0xBF24BD4E#32
  | 6 => 0xBE1AB94B#32
  | 7 => 0x3DF074F0#32
  | 8 => 0xBF08A9EE#32
  | 9 => 0xBDD59128#32
  | 10 => 0x4054E526#32
  | 11 => 0xBE39BD59#32
  | 12 => 0x3FE1A502#32
  | 13 => 0xBF551F04#32
  | 14 => 0xBF153091#32
  | 15 => 0xBF8FF8C9#32
  | 16 => 0x3F1C9462#32
  | 17 => 0xBF83F83A#32
  | 18 => 0xBD7A3FFE#32
  | 19 => 0x3FCBBF8E#32
  | 20 => 0x3EFE59EC#32
  | 21 => 0xBFC4B9B1#32
  | 22 => 0x3FD2EDBA#32
  | 23 => 0xBE531E65#32
  | 24 => 0x3FD577AA#32
  | 25 => 0xBF062350#32
  | 26 => 0xBEEA2D07#32
  | 27 => 0x3F5793BE#32
  | 28 => 0x402C355F#32
  | 29 => 0x3F0789F6#32
  | 30 => 0xBF871A6A#32
  | 31 => 0x3F15EC1D#32
  | 32 => 0x3F6CD398#32
  | 33 => 0x3F93CB42#32
  | 34 => 0x3E5D31FF#32
  | 35 => 0x3F80DC37#32
  | 36 => 0x3F06FCF5#32
  | 37 => 0x3D4ED251#32
  | 38 => 0xBF947FB1#32
  | 39 => 0x3F9B20FA#32
  | 40 => 0xBEBE32A8#32
  | 41 => 0x3E5D9846#32
  | 42 => 0xBEAB58CF#32
  | 43 => 0x3F50D39D#32
  | 44 => 0xBE9CADB2#32
  | 45 => 0xBF75E498#32
  | 46 => 0x3FC43319#32
  | 47 => 0xBF8FDF0B#32
  | 48 => 0x3F396FDF#32
  | 49 => 0x3DADF491#32
  | 50 => 0x3F0E1D80#32
  | 51 => 0x3F34D653#32
  | 52 => 0x3FA4E522#32
  | 53 => 0x4077A757#32
  | 54 => 0xBE990BB3#32
  | 55 => 0x400B94E2#32
  | 56 => 0x40381F90#32
  | 57 => 0x40085CA6#32
  | 58 => 0xBEABC7E6#32
  | 59 => 0x3E704B5A#32
  | 60 => 0x3F101B0A#32
  | 61 => 0xBF272FA1#32
  | 62 => 0xBFBD5E98#32
  | 63 => 0x3F23EBDE#32
  | 64 => 0xBF834062#32
  | 65 => 0x3F830124#32
  | 66 => 0x3E0E6505#32
  | 67 => 0x3FED574A#32
  | 68 => 0x3F2EE24F#32
  | 69 => 0xBF90FD66#32
  | 70 => 0xBEDE124A#32
  | 71 => 0xBD9DEDCD#32
  | 72 => 0x3F8B33E8#32
  | 73 => 0x40211FA9#32
  | 74 => 0x3DF635AD#32
  | 75 => 0xBF5B2CB8#32
  | 76 => 0x3DEF2283#32
  | 77 => 0x3FD16BF9#32
  | 78 => 0x3F410716#32
  | 79 => 0x3F8CF26D#32
  | 80 => 0xBE838D85#32
  | 81 => 0xBF60DEB5#32
  | 82 => 0x3F2FA15D#32
  | 83 => 0x3EB95957#32
  | 84 => 0xBFC72B7A#32
  | 85 => 0x3F87491D#32
  | 86 => 0x3F047941#32
  | 87 => 0x3EF1FB4A#32
  | 88 => 0x3EFEDE8B#32
  | 89 => 0x3F760B64#32
  | 90 => 0x40716B2C#32
  | 91 => 0x3F3C33AC#32
  | 92 => 0x3FA0BCC0#32
  | 93 => 0xBC76F329#32
  | 94 => 0xBFD3B820#32
  | 95 => 0xBEB39ACA#32
  | 96 => 0xBD8F7DBE#32
  | 97 => 0xBEB05AD2#32
  | 98 => 0x3F2BEDBE#32
  | 99 => 0xBF5A33F4#32
  | 100 => 0x3F6E97B8#32
  | 101 => 0xBFC016EA#32
  | 102 => 0xBEE94AD2#32
  | 103 => 0x3F737878#32
  | 104 => 0x3F0FCD81#32
  | 105 => 0x4037DF9C#32
  | 106 => 0xBFD584CB#32
  | 107 => 0x3F148ED6#32
  | 108 => 0x3F029639#32
  | 109 => 0x3FAB24B9#32
  | 110 => 0x3F5DB1CF#32
  | 111 => 0x3FD7EDEC#32
  | 112 => 0xBEA61E1F#32
  | 113 => 0x3FEBB4A5#32
  | 114 => 0xBF18F0C4#32
  | 115 => 0x40297539#32
  | 116 => 0xBE1EAC63#32
  | 117 => 0x3F14FC84#32
  | 118 => 0xBEFCD3B3#32
  | 119 => 0x3F05CE95#32
  | 120 => 0x402CBC37#32
  | 121 => 0xBF0D1ECE#32
  | 122 => 0x3F43CB03#32
  | 123 => 0x402E943C#32
  | 124 => 0x3F686ED4#32
  | 125 => 0xBE92B8ED#32
  | 126 => 0x3F25C5C2#32
  | 127 => 0xBDF4122B#32
  | _ => 0#32

noncomputable abbrev lit0t0_124 (i : Nat) : BitVec 32 := match i % 128 with
  | 0 => 0x3FCE21F6#32
  | 1 => 0x3F849BA2#32
  | 2 => 0xBF3D312F#32
  | 3 => 0x3E8ABE46#32
  | 4 => 0x4086462C#32
  | 5 => 0xBF0660B6#32
  | 6 => 0x3F3D13B1#32
  | 7 => 0xBF15BD28#32
  | 8 => 0x3F179EC0#32
  | 9 => 0x3E12C757#32
  | 10 => 0x3F22809D#32
  | 11 => 0x3FE1401E#32
  | 12 => 0x40350FC6#32
  | 13 => 0x3E7F7CE7#32
  | 14 => 0x3F3BBE28#32
  | 15 => 0x409B13AE#32
  | 16 => 0xBFA64E59#32
  | 17 => 0x3F79B056#32
  | 18 => 0xBDF8CC15#32
  | 19 => 0x3F501BBF#32
  | 20 => 0x3E8DFFDB#32
  | 21 => 0x3F0CE91C#32
  | 22 => 0x3F6A54EA#32
  | 23 => 0xBC1AFEB9#32
  | 24 => 0x3F97B23A#32
  | 25 => 0x3E0E188A#32
  | 26 => 0x3F90CFE8#32
  | 27 => 0x3FB0AB32#32
  | 28 => 0x3E5D1B5A#32
  | 29 => 0xBE84691F#32
  | 30 => 0xBED7E89E#32
  | 31 => 0x3FDC349C#32
  | 32 => 0x3EAA8095#32
  | 33 => 0xBF88D7F6#32
  | 34 => 0x3FDFB9BA#32
  | 35 => 0x3FFEAA9C#32
  | 36 => 0xBFDC2C0D#32
  | 37 => 0xBEB5E132#32
  | 38 => 0xBF52773D#32
  | 39 => 0x3E86CC99#32
  | 40 => 0xBF611E29#32
  | 41 => 0x3F2FE8B1#32
  | 42 => 0xBF093934#32
  | 43 => 0xBF553182#32
  | 44 => 0x407C4FA3#32
  | 45 => 0xBE8600ED#32
  | 46 => 0x3FF11D2F#32
  | 47 => 0x40018E49#32
  | 48 => 0x3F753042#32
  | 49 => 0x3FE849D3#32
  | 50 => 0x3E97F90B#32
  | 51 => 0xBD8D9BE9#32
  | 52 => 0x3DD59F21#32
  | 53 => 0xBE75C84B#32
  | 54 => 0x3F42B5FA#32
  | 55 => 0x401A9C18#32
  | 56 => 0xBC8C081B#32
  | 57 => 0x3E573BFF#32
  | 58 => 0x402E1E92#32
  | 59 => 0xBF035C49#32
  | 60 => 0x3EC71DA7#32
  | 61 => 0xBD7A1313#32
  | 62 => 0xBF5B569A#32
  | 63 => 0x3E8B02AA#32
  | 64 => 0xBF39010B#32
  | 65 => 0xBF617C22#32
  | 66 => 0xBFD60C4D#32
  | 67 => 0x3F91057D#32
  | 68 => 0x3CE7532C#32
  | 69 => 0xBE44641D#32
  | 70 => 0x3FE404FE#32
  | 71 => 0x400AD07E#32
  | 72 => 0xC010E284#32
  | 73 => 0x3F315C89#32
  | 74 => 0x3F614BF2#32
  | 75 => 0x3F33DC13#32
  | 76 => 0x3F01B8D6#32
  | 77 => 0x404BE53E#32
  | 78 => 0x3FFDA319#32
  | 79 => 0x3F63FD13#32
  | 80 => 0x400D5B7C#32
  | 81 => 0xBF34CB6C#32
  | 82 => 0x3F0A9CC0#32
  | 83 => 0xBEFAAD9E#32
  | 84 => 0x3F0273E7#32
  | 85 => 0x3EA81C8E#32
  | 86 => 0xBEBF6BEE#32
  | 87 => 0x3F64B5E8#32
  | 88 => 0x3F5F4AF6#32
  | 89 => 0x3FDB4694#32
  | 90 => 0x3FE82343#32
  | 91 => 0x3EE60134#32
  | 92 => 0x3EBF6B4F#32
  | 93 => 0xBF5F93B7#32
  | 94 => 0xBF77D030#32
  | 95 => 0x4058A335#32
  | 96 => 0x3F69B336#32
  | 97 => 0x3F12DB3B#32
  | 98 => 0x3FE3D68B#32
  | 99 => 0x3FF67C59#32
  | 100 => 0x3EFF9616#32
  | 101 => 0xBEDB3CA8#32
  | 102 => 0xBEEBB328#32
  | 103 => 0x40156F8A#32
  | 104 => 0x3E92A57B#32
  | 105 => 0x3F0D1954#32
  | 106 => 0xBF97CB8C#32
  | 107 => 0xBF652668#32
  | 108 => 0xBE140C5B#32
  | 109 => 0x40023E0F#32
  | 110 => 0xBF487DA7#32
  | 111 => 0x3F84DD4D#32
  | 112 => 0xBF6788A6#32
  | 113 => 0x3F77382E#32
  | 114 => 0x3E7C2E1D#32
  | 115 => 0x3DD05554#32
  | 116 => 0x4002E6CA#32
  | 117 => 0xBE847802#32
  | 118 => 0x3E2A6CDE#32
  | 119 => 0x3F511418#32
  | 120 => 0xBFA54B14#32
  | 121 => 0x3FE707AA#32
  | 122 => 0xBE90607D#32
  | 123 => 0x3E8CF7F6#32
  | 124 => 0xBDD8FCE6#32
  | 125 => 0x3E82DAFB#32
  | 126 => 0xBF4F6F08#32
  | 127 => 0x3F0E412B#32
  | _ => 0#32

noncomputable abbrev lit0t0_125 (i : Nat) : BitVec 32 := match i % 128 with
  | 0 => 0x3E89D59A#32
  | 1 => 0x3F251FE7#32
  | 2 => 0xBEE13FF3#32
  | 3 => 0x3F6ACC06#32
  | 4 => 0x3C22B5A6#32
  | 5 => 0x3F956F5C#32
  | 6 => 0x4088F473#32
  | 7 => 0x3E6B962B#32
  | 8 => 0xBF1856EE#32
  | 9 => 0x3FB97CF2#32
  | 10 => 0xBD471521#32
  | 11 => 0xBDDF623E#32
  | 12 => 0xBF655D04#32
  | 13 => 0x3F7712D5#32
  | 14 => 0x3F976B75#32
  | 15 => 0x3D9B028B#32
  | 16 => 0x403BD0CA#32
  | 17 => 0x4088F786#32
  | 18 => 0xBDF8E643#32
  | 19 => 0x3D1D9BA6#32
  | 20 => 0x3ED2DBF1#32
  | 21 => 0xBD20C04D#32
  | 22 => 0x3F88D791#32
  | 23 => 0x3D239C9F#32
  | 24 => 0x3FA19A2C#32
  | 25 => 0xBE165E73#32
  | 26 => 0x3FA9DF1A#32
  | 27 => 0x3EB0F8C0#32
  | 28 => 0xBEC7C684#32
  | 29 => 0xBED5ACFD#32
  | 30 => 0xBFA21BCA#32
  | 31 => 0x3FA90500#32
  | 32 => 0xBF68B699#32
  | 33 => 0x3F93D1D9#32
  | 34 => 0x3F27AABD#32
  | 35 => 0x3F71D5E8#32
  | 36 => 0x3F97F482#32
  | 37 => 0xBF65BB52#32
  | 38 => 0xBEEB63A2#32
  | 39 => 0x3F847672#32
  | 40 => 0x40789862#32
  | 41 => 0xBFE37571#32
  | 42 => 0xBF56C973#32
  | 43 => 0xBE0C319F#32
  | 44 => 0x3F613017#32
  | 45 => 0x40331A86#32
  | 46 => 0x3E80C405#32
  | 47 => 0x3F66FCBD#32
  | 48 => 0xBF18185C#32
  | 49 => 0xBEF5999A#32
  | 50 => 0xBF872CA8#32
  | 51 => 0x3EEF6FE4#32
  | 52 => 0x3F048F8C#32
  | 53 => 0x3F5FBA28#32
  | 54 => 0x3F82231A#32
  | 55 => 0xBEC7F3FB#32
  | 56 => 0xBECDA22E#32
  | 57 => 0x3E58E444#32
  | 58 => 0x3F8D07E0#32
  | 59 => 0x408A2218#32
  | 60 => 0x40998BD5#32
  | 61 => 0x3F88ED35#32
  | 62 => 0x3F8C0F55#32
  | 63 => 0x3F9FCF38#32
  | 64 => 0x3DA5FD7B#32
  | 65 => 0xBCDEE1F7#32
  | 66 => 0x3CAC5F85#32
  | 67 => 0x3FA804D8#32
  | 68 => 0x3F2518EF#32
  | 69 => 0x3E56380A#32
  | 70 => 0xBEB4E806#32
  | 71 => 0x3ECF70DC#32
  | 72 => 0x401B1F4A#32
  | 73 => 0x3D126AA5#32
  | 74 => 0x3FED3096#32
  | 75 => 0xBE8A6420#32
  | 76 => 0xBF0985A5#32
  | 77 => 0x4031AD58#32
  | 78 => 0xBEE921D2#32
  | 79 => 0xBF26A267#32
  | 80 => 0x3EFCFF15#32
  | 81 => 0xBFBBBE0D#32
  | 82 => 0xBEC3F439#32
  | 83 => 0x3EF32B16#32
  | 84 => 0x3FE84D21#32
  | 85 => 0xBF695628#32
  | 86 => 0xBF858E61#32
  | 87 => 0x3F92D2E8#32
  | 88 => 0xBE977EE6#32
  | 89 => 0x4051A922#32
  | 90 => 0x3FB2E10C#32
  | 91 => 0x3F778718#32
  | 92 => 0x4083E48E#32
  | 93 => 0x3FB12F53#32
  | 94 => 0x40B59961#32
  | 95 => 0x3F972806#32
  | 96 => 0xBF6094AE#32
  | 97 => 0x3ED8B380#32
  | 98 => 0x3E069FE7#32
  | 99 => 0x3F75E6FC#32
  | 100 => 0xBF9AB29E#32
  | 101 => 0x3E861AF6#32
  | 102 => 0x3E34FFD0#32
  | 103 => 0xBF3CE856#32
  | 104 => 0x3E9A16AE#32
  | 105 => 0xBF27F06B#32
  | 106 => 0x3DC89F2E#32
  | 107 => 0x3FB9381D#32
  | 108 => 0x3FA8E819#32
  | 109 => 0x3EA1203C#32
  | 110 => 0xBF0DF56C#32
  | 111 => 0xBEA72DF4#32
  | 112 => 0xBEAD8BC4#32
  | 113 => 0xBF4B2613#32
  | 114 => 0x3F797BDF#32
  | 115 => 0xBE39114F#32
  | 116 => 0x3F69B3C2#32
  | 117 => 0x40B6AA5A#32
  | 118 => 0xBDFAA3CA#32
  | 119 => 0x3CD14AC2#32
  | 120 => 0x3FA08A18#32
  | 121 => 0x3F9373ED#32
  | 122 => 0x3F976B62#32
  | 123 => 0x3F3E8AD1#32
  | 124 => 0xBFC9DBA0#32
  | 125 => 0x3E9E186D#32
  | 126 => 0x3FA2ECBA#32
  | 127 => 0x3F4F52F6#32
  | _ => 0#32

noncomputable abbrev lit0t0_126 (i : Nat) : BitVec 32 := match i % 128 with
  | 0 => 0x3E58CAEE#32
  | 1 => 0x4041C0D5#32
  | 2 => 0x3F822DD9#32
  | 3 => 0x3F87F94A#32
  | 4 => 0xBFB6C6DC#32
  | 5 => 0x3F9D468E#32
  | 6 => 0x3F64D62A#32
  | 7 => 0x3FAC3719#32
  | 8 => 0x40358BF9#32
  | 9 => 0x40217BAA#32
  | 10 => 0xBF164B2A#32
  | 11 => 0x3F866ADD#32
  | 12 => 0xBFAA430F#32
  | 13 => 0x3F23470F#32
  | 14 => 0xBF81E5AF#32
  | 15 => 0x3FDCD67E#32
  | 16 => 0xBF902B45#32
  | 17 => 0x3F118E5D#32
  | 18 => 0x3F8C07B3#32
  | 19 => 0x3F9351E0#32
  | 20 => 0xBECC754D#32
  | 21 => 0x4011099A#32
  | 22 => 0x403B2C10#32
  | 23 => 0x3F5B8A2C#32
  | 24 => 0x403E4EFA#32
  | 25 => 0xBEC350C4#32
  | 26 => 0xBD2B8C60#32
  | 27 => 0x3F4C383E#32
  | 28 => 0x3E413554#32
  | 29 => 0x3F0BC172#32
  | 30 => 0x3F8D4DCB#32
  | 31 => 0x3F4FAE60#32
  | 32 => 0xBFA3DB61#32
  | 33 => 0x3FD1694B#32
  | 34 => 0xBF1DD4F9#32
  | 35 => 0xBE1A1DC4#32
  | 36 => 0xBFC3C44C#32
  | 37 => 0x4074B2C0#32
  | 38 => 0x3E2B1D7C#32
  | 39 => 0x3F77FB37#32
  | 40 => 0xBE2BFEBF#32
  | 41 => 0xBE81DB0F#32
  | 42 => 0x3EF1E790#32
  | 43 => 0x3EBAF5AD#32
  | 44 => 0x3FC89E2C#32
  | 45 => 0x3FC97B60#32
  | 46 => 0x409C9070#32
  | 47 => 0x3FA925A1#32
  | 48 => 0xBE8E563D#32
  | 49 => 0xBF30EBFA#32
  | 50 => 0x3D7B9DC0#32
  | 51 => 0x3FBF7672#32
  | 52 => 0xBF948766#32
  | 53 => 0x4058342C#32
  | 54 => 0xBF8E6636#32
  | 55 => 0x4047D413#32
  | 56 => 0xBE8F0996#32
  | 57 => 0xBE5FA48C#32
  | 58 => 0x4071AF57#32
  | 59 => 0x4013DDFA#32
  | 60 => 0x3E0E8F4B#32
  | 61 => 0xBE675E6A#32
  | 62 => 0x3FF0E665#32
  | 63 => 0x3F27C076#32
  | 64 => 0x3FEE0FCD#32
  | 65 => 0x402B6A37#32
  | 66 => 0xBF8AEB0A#32
  | 67 => 0x3E018D90#32
  | 68 => 0x3C89096B#32
  | 69 => 0xBF7296E0#32
  | 70 => 0x402184A3#32
  | 71 => 0x3F862568#32
  | 72 => 0x3FB21FF4#32
  | 73 => 0x3EC1BAB0#32
  | 74 => 0xBFC1F05A#32
  | 75 => 0x3EFA5B74#32
  | 76 => 0x4051EE0B#32
  | 77 => 0x3F0BD0E8#32
  | 78 => 0x3EF3946E#32
  | 79 => 0xBEDF67B2#32
  | 80 => 0x3FBF0016#32
  | 81 => 0x400BD8AD#32
  | 82 => 0x401634F0#32
  | 83 => 0x4028C0E4#32
  | 84 => 0x3F3079A9#32
  | 85 => 0x3F8D10D4#32
  | 86 => 0xBFF4B78A#32
  | 87 => 0x40570B94#32
  | 88 => 0x3FB36DF4#32
  | 89 => 0x3FA758AC#32
  | 90 => 0xBD047F0F#32
  | 91 => 0xBE8F38DA#32
  | 92 => 0x3F2CAA42#32
  | 93 => 0x3FED2E49#32
  | 94 => 0x3F734F3C#32
  | 95 => 0xBBA010C2#32
  | 96 => 0xBE9E68D9#32
  | 97 => 0x40495090#32
  | 98 => 0xBBD1B1DE#32
  | 99 => 0x3FC5B464#32
  | 100 => 0xBEF1DDC6#32
  | 101 => 0xBF259B65#32
  | 102 => 0xBEB5093F#32
  | 103 => 0x401B63D6#32
  | 104 => 0x3F4BA6B3#32
  | 105 => 0x40053A83#32
  | 106 => 0x409C343A#32
  | 107 => 0x3F4A143A#32
  | 108 => 0xBD78F455#32
  | 109 => 0xBEDA71FF#32
  | 110 => 0x3ECC60DD#32
  | 111 => 0x3FA33047#32
  | 112 => 0xBEA130F9#32
  | 113 => 0xBF531E1C#32
  | 114 => 0x4031EFFE#32
  | 115 => 0x4023A273#32
  | 116 => 0xBFDA535F#32
  | 117 => 0xBC28EBCE#32
  | 118 => 0xBFCD703A#32
  | 119 => 0x3C9CC38B#32
  | 120 => 0x3FE035A9#32
  | 121 => 0xBE988820#32
  | 122 => 0x3FC5AA5B#32
  | 123 => 0x3F8B40F6#32
  | 124 => 0x3E897447#32
  | 125 => 0x3FC40E40#32
  | 126 => 0xBE0D8C4D#32
  | 127 => 0x3EF0BC68#32
  | _ => 0#32

noncomputable abbrev lit0t0_127 (i : Nat) : BitVec 32 := match i % 128 with
  | 0 => 0x3F910408#32
  | 1 => 0x3EA39E5E#32
  | 2 => 0x3FB4545B#32
  | 3 => 0xBF3747C5#32
  | 4 => 0x3FD1772A#32
  | 5 => 0x3F0097F9#32
  | 6 => 0xBE25838A#32
  | 7 => 0xBED4B3CE#32
  | 8 => 0x40A59EF5#32
  | 9 => 0x3FA92701#32
  | 10 => 0x3F751364#32
  | 11 => 0x3E74CC10#32
  | 12 => 0x3FE3B900#32
  | 13 => 0x3FAEA8E8#32
  | 14 => 0xBE785114#32
  | 15 => 0x3F95F39A#32
  | 16 => 0xBEE283C5#32
  | 17 => 0xBEBB7768#32
  | 18 => 0x3F82777F#32
  | 19 => 0xBDA9ED0C#32
  | 20 => 0x3F6E8ED0#32
  | 21 => 0x3FE59CFA#32
  | 22 => 0x3F1CC8A9#32
  | 23 => 0xBF9C58A4#32
  | 24 => 0x3FD36E76#32
  | 25 => 0x3F45ACDD#32
  | 26 => 0x3E3E90F3#32
  | 27 => 0xBF200F4C#32
  | 28 => 0xBF7EBA76#32
  | 29 => 0x3FE69A6B#32
  | 30 => 0xBEFCD72E#32
  | 31 => 0x40E8499F#32
  | 32 => 0x3E2E9D58#32
  | 33 => 0x3AB3E597#32
  | 34 => 0x4005D95C#32
  | 35 => 0x3D1DEFF5#32
  | 36 => 0xBDBFC69B#32
  | 37 => 0xBE164CD4#32
  | 38 => 0xBF0654D5#32
  | 39 => 0xBFBCFF98#32
  | 40 => 0x3DD87B5E#32
  | 41 => 0x40198CAE#32
  | 42 => 0x3FD7A1D5#32
  | 43 => 0xBFBA657F#32
  | 44 => 0x3E17B4EC#32
  | 45 => 0xBF59C222#32
  | 46 => 0x3E5036D4#32
  | 47 => 0xBD772C8A#32
  | 48 => 0xBFB4317E#32
  | 49 => 0x40A6AE9C#32
  | 50 => 0xBF5D73BA#32
  | 51 => 0x3FE04AAA#32
  | 52 => 0x3EF392E2#32
  | 53 => 0x3F7376A8#32
  | 54 => 0x3F794F86#32
  | 55 => 0xBF48E5BC#32
  | 56 => 0x3EB298E7#32
  | 57 => 0x3F702F17#32
  | 58 => 0x3FDB4239#32
  | 59 => 0xBF1BFCDE#32
  | 60 => 0xBEDB2DC7#32
  | 61 => 0x3FA799C8#32
  | 62 => 0xBE87247B#32
  | 63 => 0xBEA3172A#32
  | 64 => 0xBE1684EB#32
  | 65 => 0x40146D14#32
  | 66 => 0x3E2C3F55#32
  | 67 => 0x4012BA93#32
  | 68 => 0xBF246E94#32
  | 69 => 0x3FF2BFE7#32
  | 70 => 0x3F6A2B6E#32
  | 71 => 0x3FE090FC#32
  | 72 => 0xBECD468C#32
  | 73 => 0xBEB49EB5#32
  | 74 => 0xBF60E1EA#32
  | 75 => 0x3FDF4407#32
  | 76 => 0x3E249972#32
  | 77 => 0x3D7864FA#32
  | 78 => 0x40549C09#32
  | 79 => 0x400B9E5F#32
  | 80 => 0xBFC1DB6A#32
  | 81 => 0xBF545D6D#32
  | 82 => 0x3FA27950#32
  | 83 => 0x3F69740B#32
  | 84 => 0x3F6FE123#32
  | 85 => 0xBF4B9E01#32
  | 86 => 0xBF052466#32
  | 87 => 0x3EACC7DE#32
  | 88 => 0xBD0C4229#32
  | 89 => 0x3FBF8B04#32
  | 90 => 0x3F321194#32
  | 91 => 0x3F46F1AF#32
  | 92 => 0xBF4E3E82#32
  | 93 => 0x3EFE9E1E#32
  | 94 => 0x3F314FE4#32
  | 95 => 0xBFBEAD1D#32
  | 96 => 0xBF7ED675#32
  | 97 => 0xBEBDF5FB#32
  | 98 => 0xBE2851D6#32
  | 99 => 0xBF96290C#32
  | 100 => 0x3F92B60D#32
  | 101 => 0xBF3E1659#32
  | 102 => 0x3D29E21B#32
  | 103 => 0xBF89E76E#32
  | 104 => 0x3DAFC3D2#32
  | 105 => 0xBF5C07BD#32
  | 106 => 0xBF4EE338#32
  | 107 => 0x3FD056E3#32
  | 108 => 0x3F42D3E9#32
  | 109 => 0xBEBFB961#32
  | 110 => 0x3F91EFBD#32
  | 111 => 0x40032A25#32
  | 112 => 0x3F83AECE#32
  | 113 => 0x3F5F04DD#32
  | 114 => 0x3F268762#32
  | 115 => 0xBF79A8CE#32
  | 116 => 0x3DB24C46#32
  | 117 => 0x3F9EBA64#32
  | 118 => 0xBE1E170D#32
  | 119 => 0x3EC2502C#32
  | 120 => 0x3F965C01#32
  | 121 => 0x40050DBC#32
  | 122 => 0xBDAE32B2#32
  | 123 => 0x3F610DAE#32
  | 124 => 0x3ED9E698#32
  | 125 => 0xBF6B5401#32
  | 126 => 0xBFD127EC#32
  | 127 => 0x3F1358CC#32
  | _ => 0#32

noncomputable abbrev lit0t0_128 (i : Nat) : BitVec 32 := match i % 128 with
  | 0 => 0x3FCCA422#32
  | 1 => 0x400D65CF#32
  | 2 => 0xBE5E6DF9#32
  | 3 => 0x4012038F#32
  | 4 => 0x4088C450#32
  | 5 => 0x402A9C9E#32
  | 6 => 0xBF3AFC4D#32
  | 7 => 0x3D4A710D#32
  | 8 => 0x3DF9F6E6#32
  | 9 => 0x4020051A#32
  | 10 => 0x3F7D02EA#32
  | 11 => 0x3F7B82C4#32
  | 12 => 0x3E62D0D2#32
  | 13 => 0x3F789AF6#32
  | 14 => 0x40050245#32
  | 15 => 0x3F82B0B4#32
  | 16 => 0x3EF74003#32
  | 17 => 0x3F35A4D2#32
  | 18 => 0xBF16862D#32
  | 19 => 0xBE91E50A#32
  | 20 => 0xBFABB54D#32
  | 21 => 0xBF1703E8#32
  | 22 => 0xBE9F25B3#32
  | 23 => 0x3F0F34F7#32
  | 24 => 0xBF122C05#32
  | 25 => 0xBDDDBF72#32
  | 26 => 0xBD20D5B2#32
  | 27 => 0x3FF9B188#32
  | 28 => 0xBFCF4ECD#32
  | 29 => 0x40486CDB#32
  | 30 => 0x3E6DF091#32
  | 31 => 0x3F68E720#32
  | 32 => 0x3E8725F7#32
  | 33 => 0x40996FB1#32
  | 34 => 0x4026C402#32
  | 35 => 0xBF6468BA#32
  | 36 => 0x4014089D#32
  | 37 => 0xBF2AACA9#32
  | 38 => 0x400E8039#32
  | 39 => 0xBCF459F9#32
  | 40 => 0x3F8AAAFA#32
  | 41 => 0xBE50FC6D#32
  | 42 => 0xBFBD4023#32
  | 43 => 0xBDCCDFD3#32
  | 44 => 0xBE8AF007#32
  | 45 => 0x3EDE08B0#32
  | 46 => 0x3F044EC6#32
  | 47 => 0xBFA80DEC#32
  | 48 => 0xBF7E44CA#32
  | 49 => 0x3F1925C0#32
  | 50 => 0xBF8CAABD#32
  | 51 => 0x3E820B55#32
  | 52 => 0x3F1398F2#32
  | 53 => 0x3F6443BD#32
  | 54 => 0x3F85C7BA#32
  | 55 => 0xBF89E168#32
  | 56 => 0x3F9647E0#32
  | 57 => 0xBEBDC780#32
  | 58 => 0x40428579#32
  | 59 => 0x3E5661FE#32
  | 60 => 0x3FC0D4C0#32
  | 61 => 0x404B80DA#32
  | 62 => 0x3F85F6B2#32
  | 63 => 0xBF809AC2#32
  | 64 => 0xBE039EF6#32
  | 65 => 0x4002B68B#32
  | 66 => 0x400D2391#32
  | 67 => 0x3F5F5A76#32
  | 68 => 0x3EE28F34#32
  | 69 => 0x4045CE08#32
  | 70 => 0xBD8E75E2#32
  | 71 => 0xBE8D15A5#32
  | 72 => 0x4033468C#32
  | 73 => 0xBFA9933F#32
  | 74 => 0xBFB1529D#32
  | 75 => 0x3F4B17D4#32
  | 76 => 0x3F6BD4A4#32
  | 77 => 0x3F73BA1C#32
  | 78 => 0x3F9E99EE#32
  | 79 => 0x3E95670D#32
  | 80 => 0x3FD04EEC#32
  | 81 => 0xBFA6000B#32
  | 82 => 0x3F83BB4E#32
  | 83 => 0xBE17A6E9#32
  | 84 => 0x3FCAABEF#32
  | 85 => 0xBF0F2619#32
  | 86 => 0x3EEADBF2#32
  | 87 => 0x3F9B627E#32
  | 88 => 0xBE6A8F71#32
  | 89 => 0x3FA6FF17#32
  | 90 => 0x3F64A238#32
  | 91 => 0x3D05254A#32
  | 92 => 0x3F243283#32
  | 93 => 0xBFA5F301#32
  | 94 => 0x40089D2C#32
  | 95 => 0xBF0CD84B#32
  | 96 => 0x400F8011#32
  | 97 => 0x3FC0ACF0#32
  | 98 => 0xBEDA8AB0#32
  | 99 => 0xBF77693C#32
  | 100 => 0xBEC9BC1D#32
  | 101 => 0xBF6F0A26#32
  | 102 => 0xBF8014CE#32
  | 103 => 0xBF97D1B9#32
  | 104 => 0x3F16AD25#32
  | 105 => 0x3D0A1DBB#32
  | 106 => 0xBF5FF687#32
  | 107 => 0x3F821A61#32
  | 108 => 0xBF5DA6A6#32
  | 109 => 0x3FBC76C2#32
  | 110 => 0x3E3B8BF7#32
  | 111 => 0x3F377027#32
  | 112 => 0x3FEF219C#32
  | 113 => 0xBF8B3C92#32
  | 114 => 0x3F55B6A3#32
  | 115 => 0x3FA70E74#32
  | 116 => 0x3F9CF0E9#32
  | 117 => 0xBEFCE220#32
  | 118 => 0x3FDDAFCF#32
  | 119 => 0x3F12DC2E#32
  | 120 => 0x405A9ED8#32
  | 121 => 0xBF5ED432#32
  | 122 => 0xBF894604#32
  | 123 => 0xBCF007E9#32
  | 124 => 0x3F6CF738#32
  | 125 => 0xBE371DBB#32
  | 126 => 0x408A43C2#32
  | 127 => 0x3FB0875C#32
  | _ => 0#32

noncomputable abbrev lit0t0_129 (i : Nat) : BitVec 32 := match i % 128 with
  | 0 => 0x3F4C6F96#32
  | 1 => 0xBE388205#32
  | 2 => 0xBDFF6B7D#32
  | 3 => 0x3FEB00B6#32
  | 4 => 0x3ECC9566#32
  | 5 => 0xBE64BC6F#32
  | 6 => 0xBF110D97#32
  | 7 => 0x4086A403#32
  | 8 => 0x3FCF52E5#32
  | 9 => 0xBF47AF62#32
  | 10 => 0x3F0220C4#32
  | 11 => 0xBF6B13DA#32
  | 12 => 0x3F5FAB86#32
  | 13 => 0xBF088F56#32
  | 14 => 0x40165E14#32
  | 15 => 0xBFAE1372#32
  | 16 => 0xBDFF29B8#32
  | 17 => 0x402CB670#32
  | 18 => 0xBE66FA2D#32
  | 19 => 0x3E994BAF#32
  | 20 => 0xBF324D00#32
  | 21 => 0xBE8947B3#32
  | 22 => 0xBF9990BC#32
  | 23 => 0x3F19733E#32
  | 24 => 0x3E245373#32
  | 25 => 0xBF150385#32
  | 26 => 0xBEA37D9D#32
  | 27 => 0x3F634005#32
  | 28 => 0x3F6016EA#32
  | 29 => 0x3EBE0EAA#32
  | 30 => 0x3C17DFA5#32
  | 31 => 0x404B9A85#32
  | 32 => 0x3ED09710#32
  | 33 => 0xBE109A7B#32
  | 34 => 0x3F0A76CB#32
  | 35 => 0xBEBB0755#32
  | 36 => 0x3FDD1D35#32
  | 37 => 0x3F5343E4#32
  | 38 => 0x3C3A242B#32
  | 39 => 0xBC250B79#32
  | 40 => 0x3EB51C70#32
  | 41 => 0x3F49DA12#32
  | 42 => 0xBEB89EC5#32
  | 43 => 0x3E5F97E8#32
  | 44 => 0xBD8E4797#32
  | 45 => 0x3F96C5CC#32
  | 46 => 0x402C799C#32
  | 47 => 0xBE93E09C#32
  | 48 => 0x3EBCFBE1#32
  | 49 => 0xBE873D27#32
  | 50 => 0x3E567A76#32
  | 51 => 0x3F0240BC#32
  | 52 => 0x3FD57270#32
  | 53 => 0x3FE4AE0A#32
  | 54 => 0xBE925CD8#32
  | 55 => 0xBCB7430C#32
  | 56 => 0x3D60A103#32
  | 57 => 0x3F118650#32
  | 58 => 0x3F89677A#32
  | 59 => 0x3E4F4F16#32
  | 60 => 0x4004D0E6#32
  | 61 => 0x3E98D9CA#32
  | 62 => 0xBF4B5D04#32
  | 63 => 0x40215DAA#32
  | 64 => 0x3EB610C8#32
  | 65 => 0xBE9CA204#32
  | 66 => 0x3F0B91FE#32
  | 67 => 0x3FD13C74#32
  | 68 => 0x3EBAB8C0#32
  | 69 => 0xBE55AEFD#32
  | 70 => 0xBB8E8E80#32
  | 71 => 0x3F0D2A7B#32
  | 72 => 0xBEFDBF02#32
  | 73 => 0x3E83D1CD#32
  | 74 => 0xBD10B47E#32
  | 75 => 0x3EDBBB42#32
  | 76 => 0x3F283F83#32
  | 77 => 0x3F8AA320#32
  | 78 => 0x3F7CC644#32
  | 79 => 0xBCBD6DF8#32
  | 80 => 0x3F1195C0#32
  | 81 => 0xBE3A2DFA#32
  | 82 => 0x3ED08E94#32
  | 83 => 0xBE8E0D64#32
  | 84 => 0x3FA71170#32
  | 85 => 0x3EC7FF75#32
  | 86 => 0x3F576623#32
  | 87 => 0xBE1FF098#32
  | 88 => 0x3F4CEA65#32
  | 89 => 0xBF09223A#32
  | 90 => 0x40449A8B#32
  | 91 => 0x3FE13B00#32
  | 92 => 0x4025E74B#32
  | 93 => 0x40655028#32
  | 94 => 0x3D23EA8E#32
  | 95 => 0x3FC8D7C0#32
  | 96 => 0xBEC2267B#32
  | 97 => 0x3F1EEE8E#32
  | 98 => 0xBF86081D#32
  | 99 => 0xBE3FA043#32
  | 100 => 0x3FA17ED8#32
  | 101 => 0x3FC4C842#32
  | 102 => 0x3F1AABF5#32
  | 103 => 0x3F1CCF8D#32
  | 104 => 0xBCD0F2FB#32
  | 105 => 0xBFA497B6#32
  | 106 => 0xBED5F853#32
  | 107 => 0x400AF61E#32
  | 108 => 0xBF1C44F2#32
  | 109 => 0x3E58125D#32
  | 110 => 0x3E0D538C#32
  | 111 => 0x3FB8B84F#32
  | 112 => 0xBD04E60B#32
  | 113 => 0x4060B290#32
  | 114 => 0x406F6E57#32
  | 115 => 0x4005BC25#32
  | 116 => 0x40080EE6#32
  | 117 => 0x3FCA49F7#32
  | 118 => 0x3F7CFA6C#32
  | 119 => 0xBEE84908#32
  | 120 => 0xBE845E6B#32
  | 121 => 0x3D40A1E2#32
  | 122 => 0xBE8A6BA3#32
  | 123 => 0x3F184ECB#32
  | 124 => 0x3C98530F#32
  | 125 => 0xBF0F6F4C#32
  | 126 => 0x3F880502#32
  | 127 => 0x3F32E554#32
  | _ => 0#32

noncomputable abbrev lit0t0_130 (i : Nat) : BitVec 32 := match i % 128 with
  | 0 => 0x402D8092#32
  | 1 => 0x3E930918#32
  | 2 => 0xBCDA9354#32
  | 3 => 0x3EBEC427#32
  | 4 => 0x3F88098C#32
  | 5 => 0x3F5C94BC#32
  | 6 => 0xBFDED906#32
  | 7 => 0x3E39FCE2#32
  | 8 => 0x40159D11#32
  | 9 => 0x3F1F6A1E#32
  | 10 => 0x4057F297#32
  | 11 => 0xBF74BF34#32
  | 12 => 0xBF190512#32
  | 13 => 0x40443770#32
  | 14 => 0x3EC2C9DF#32
  | 15 => 0x40215C44#32
  | 16 => 0xBDA99B87#32
  | 17 => 0x3E96593A#32
  | 18 => 0x3FA19D3A#32
  | 19 => 0x3F0CB1CD#32
  | 20 => 0x3EE93D38#32
  | 21 => 0x3EF1576A#32
  | 22 => 0xBE818B89#32
  | 23 => 0x3E9390F0#32
  | 24 => 0x3FC591C9#32
  | 25 => 0x3F929E3A#32
  | 26 => 0x3DABB352#32
  | 27 => 0x3F87B827#32
  | 28 => 0x3F60BF78#32
  | 29 => 0x3F44996B#32
  | 30 => 0x3E652272#32
  | 31 => 0x40055798#32
  | 32 => 0x3FD464B3#32
  | 33 => 0x3F2763F1#32
  | 34 => 0xBE94C68F#32
  | 35 => 0x3E0A63E2#32
  | 36 => 0xBF97D1D2#32
  | 37 => 0x3E6FE4F7#32
  | 38 => 0xBDF7ECA5#32
  | 39 => 0xBF1A6D9A#32
  | 40 => 0x3E6EA3EF#32
  | 41 => 0xBFC1748C#32
  | 42 => 0x40A0CE68#32
  | 43 => 0x3FB7457E#32
  | 44 => 0x404EB441#32
  | 45 => 0x3ED21647#32
  | 46 => 0x401FE8C8#32
  | 47 => 0xBE09FCFC#32
  | 48 => 0x3EEE7766#32
  | 49 => 0xBF29FFA8#32
  | 50 => 0xBF35723D#32
  | 51 => 0xBFA42CA4#32
  | 52 => 0x3F5DC3DA#32
  | 53 => 0x3E564655#32
  | 54 => 0xBD3D26A6#32
  | 55 => 0x3CF4237F#32
  | 56 => 0x3F5959F6#32
  | 57 => 0x3C94A5AC#32
  | 58 => 0x3EA6C371#32
  | 59 => 0x3F69CBAA#32
  | 60 => 0x40A40ECC#32
  | 61 => 0x3F166EB0#32
  | 62 => 0xBEA92791#32
  | 63 => 0x4096D4FB#32
  | 64 => 0x40091E0A#32
  | 65 => 0xBCC56A22#32
  | 66 => 0x3E3DFE2C#32
  | 67 => 0x3F05ACB0#32
  | 68 => 0x3F7980A4#32
  | 69 => 0x4001A037#32
  | 70 => 0xBF6E94F1#32
  | 71 => 0x3EFC7B65#32
  | 72 => 0x3FE92B34#32
  | 73 => 0xBD08512E#32
  | 74 => 0xBF767AF3#32
  | 75 => 0xBF6F1626#32
  | 76 => 0x3EB3C639#32
  | 77 => 0xBEABCAF8#32
  | 78 => 0x3FD22D9A#32
  | 79 => 0x402710E9#32
  | 80 => 0x3BB4288D#32
  | 81 => 0xBFAFC65E#32
  | 82 => 0x3EBD6D6B#32
  | 83 => 0xBEFB157D#32
  | 84 => 0xBFE6DFC0#32
  | 85 => 0xBED7D482#32
  | 86 => 0x404B1E81#32
  | 87 => 0xB8D0FD55#32
  | 88 => 0xBE22B899#32
  | 89 => 0x3F7A955B#32
  | 90 => 0x3EDB1666#32
  | 91 => 0xBD240A41#32
  | 92 => 0x3FDBF25E#32
  | 93 => 0x3E216122#32
  | 94 => 0x3E3050EB#32
  | 95 => 0x409ACF94#32
  | 96 => 0x3F94A31C#32
  | 97 => 0xBF02D9DA#32
  | 98 => 0x3F968F1D#32
  | 99 => 0x3E99F8F0#32
  | 100 => 0xBEF0DDE0#32
  | 101 => 0xBDE88AA4#32
  | 102 => 0x3EF3C1BC#32
  | 103 => 0x40187980#32
  | 104 => 0xBF5F04E4#32
  | 105 => 0x3F5B7E93#32
  | 106 => 0x3F806893#32
  | 107 => 0x3EA0E43B#32
  | 108 => 0xBF0407DF#32
  | 109 => 0x3FB0446B#32
  | 110 => 0xBE403E0C#32
  | 111 => 0x3ED21B22#32
  | 112 => 0xBF734074#32
  | 113 => 0x3F63FE13#32
  | 114 => 0xBF46CF83#32
  | 115 => 0xBFA07179#32
  | 116 => 0x408029FD#32
  | 117 => 0xBCDDE5A9#32
  | 118 => 0xBE1ED802#32
  | 119 => 0x3ED7F4DC#32
  | 120 => 0x3F18DDD1#32
  | 121 => 0x40837495#32
  | 122 => 0x3F8ADA5E#32
  | 123 => 0xBF60B3A1#32
  | 124 => 0x3FA2914F#32
  | 125 => 0x3EFF350A#32
  | 126 => 0x3F7D0572#32
  | 127 => 0xBF0D93F1#32
  | _ => 0#32

noncomputable abbrev lit0t0_131 (i : Nat) : BitVec 32 := match i % 128 with
  | 0 => 0xBF4A2FB1#32
  | 1 => 0x3ED1C4AC#32
  | 2 => 0xBF88FAF4#32
  | 3 => 0xBFDF9128#32
  | 4 => 0x403ECD2C#32
  | 5 => 0xBE813FE4#32
  | 6 => 0x3F4DC24E#32
  | 7 => 0xBF21C214#32
  | 8 => 0x3D32AE1B#32
  | 9 => 0x3DA40119#32
  | 10 => 0xBFFCD5F1#32
  | 11 => 0xBEB10CE8#32
  | 12 => 0x3D6389E2#32
  | 13 => 0x3F7584B4#32
  | 14 => 0xBF3874D1#32
  | 15 => 0xBE10F1F2#32
  | 16 => 0x3E696F22#32
  | 17 => 0x3FB23DB7#32
  | 18 => 0xBFA133EB#32
  | 19 => 0x3ECCC023#32
  | 20 => 0xBD7403C5#32
  | 21 => 0x3E93C973#32
  | 22 => 0x3FC2D810#32
  | 23 => 0x3FAEA602#32
  | 24 => 0xBE976E3B#32
  | 25 => 0x3FC80905#32
  | 26 => 0xBF513EE0#32
  | 27 => 0xBE015698#32
  | 28 => 0x3F89C814#32
  | 29 => 0x3FAF60D4#32
  | 30 => 0xBED4E8B1#32
  | 31 => 0x40092E70#32
  | 32 => 0x3E21DCD1#32
  | 33 => 0xBEB1770D#32
  | 34 => 0xBF8BF650#32
  | 35 => 0xBE9E886B#32
  | 36 => 0x3F299605#32
  | 37 => 0x4002C8BD#32
  | 38 => 0xBF2B83D9#32
  | 39 => 0xBEBE3B62#32
  | 40 => 0x3F1A5EDE#32
  | 41 => 0xBF876D40#32
  | 42 => 0x3FBA7F65#32
  | 43 => 0x3F50693A#32
  | 44 => 0x3FC1409D#32
  | 45 => 0x3EC067CC#32
  | 46 => 0x3F3C86CA#32
  | 47 => 0xBE2019E4#32
  | 48 => 0x3EB6B3B3#32
  | 49 => 0xBDD9341A#32
  | 50 => 0x3FEBCD4D#32
  | 51 => 0x401DAF20#32
  | 52 => 0x3ECF1A9B#32
  | 53 => 0x3F97015D#32
  | 54 => 0x3EB75814#32
  | 55 => 0x3F6025CC#32
  | 56 => 0x4010076A#32
  | 57 => 0x3E8ED3A2#32
  | 58 => 0x40696058#32
  | 59 => 0x4021D45B#32
  | 60 => 0xBD4DF0E4#32
  | 61 => 0x3D136ED0#32
  | 62 => 0x3FAFB176#32
  | 63 => 0x3F3BC593#32
  | 64 => 0x3F51B308#32
  | 65 => 0x3F697A6F#32
  | 66 => 0x3E149CE0#32
  | 67 => 0x3F1FAB4D#32
  | 68 => 0x3DA2A25F#32
  | 69 => 0x3F8A1AE3#32
  | 70 => 0x3F5AC261#32
  | 71 => 0x3F96988F#32
  | 72 => 0x3FF3D95E#32
  | 73 => 0xBF56FDD5#32
  | 74 => 0x3FAAEA9A#32
  | 75 => 0x3F9BD8C9#32
  | 76 => 0x3FCE2A82#32
  | 77 => 0x40501A7D#32
  | 78 => 0xBE359C6F#32
  | 79 => 0xBF090B0D#32
  | 80 => 0x3FD11C3C#32
  | 81 => 0x3F929DCA#32
  | 82 => 0x4003E0ED#32
  | 83 => 0x3FA8C468#32
  | 84 => 0x3E0E4457#32
  | 85 => 0x3F9DA22F#32
  | 86 => 0x404B07FC#32
  | 87 => 0x3F6D8244#32
  | 88 => 0x3F96F65F#32
  | 89 => 0x3FF43F9C#32
  | 90 => 0x3F8D9AB7#32
  | 91 => 0xBF4DABAA#32
  | 92 => 0x3ED875A4#32
  | 93 => 0xBE7A68BB#32
  | 94 => 0xBEE0AE94#32
  | 95 => 0x3F1BFB7A#32
  | 96 => 0x4041F826#32
  | 97 => 0xBF4C8538#32
  | 98 => 0xBF5D1770#32
  | 99 => 0xBBFA7851#32
  | 100 => 0x3F45DCC1#32
  | 101 => 0x4008833B#32
  | 102 => 0xBF247CD3#32
  | 103 => 0x3F646152#32
  | 104 => 0x3FE2F1A4#32
  | 105 => 0xBEFADFAA#32
  | 106 => 0xBD8455FE#32
  | 107 => 0x3F189D91#32
  | 108 => 0x3EE8CD24#32
  | 109 => 0x4023C41F#32
  | 110 => 0xBF1C5C48#32
  | 111 => 0xBF4F1439#32
  | 112 => 0xBF7C70CC#32
  | 113 => 0xBF190932#32
  | 114 => 0x3FF750A3#32
  | 115 => 0x4078DE3E#32
  | 116 => 0x3F40BAE0#32
  | 117 => 0x3D0B84C2#32
  | 118 => 0x3EE868A4#32
  | 119 => 0xBF6BED1F#32
  | 120 => 0xBF2575A6#32
  | 121 => 0x3F052F4C#32
  | 122 => 0x403AA1EE#32
  | 123 => 0xBEE3CB2E#32
  | 124 => 0x3EC12095#32
  | 125 => 0xBF234F3F#32
  | 126 => 0x3D2B62BD#32
  | 127 => 0xBF7CC8BB#32
  | _ => 0#32

noncomputable abbrev lit0t0_132 (i : Nat) : BitVec 32 := match i % 128 with
  | 0 => 0x4013638C#32
  | 1 => 0x40A85FCB#32
  | 2 => 0xBF2F3A15#32
  | 3 => 0x3FD29E10#32
  | 4 => 0x4041B922#32
  | 5 => 0xBE39E0DF#32
  | 6 => 0x40148A70#32
  | 7 => 0x3E2D12E0#32
  | 8 => 0x3F489046#32
  | 9 => 0xBFB89515#32
  | 10 => 0xBE5274DD#32
  | 11 => 0x3FB33541#32
  | 12 => 0x3E30AA58#32
  | 13 => 0x3F884240#32
  | 14 => 0x3E5DFA8D#32
  | 15 => 0xBF215351#32
  | 16 => 0xBF8FAAAA#32
  | 17 => 0x40C38B96#32
  | 18 => 0x3FEF9CE4#32
  | 19 => 0x3F1AE8B0#32
  | 20 => 0x3F301D75#32
  | 21 => 0xBF4E76FF#32
  | 22 => 0x3F0FBA1F#32
  | 23 => 0xBFD603B9#32
  | 24 => 0xBF25666A#32
  | 25 => 0x4039D214#32
  | 26 => 0x3FC22B2D#32
  | 27 => 0x3F2C3358#32
  | 28 => 0x3FF0627F#32
  | 29 => 0x3F11F6FA#32
  | 30 => 0xBF4ECB19#32
  | 31 => 0xBF12D2FC#32
  | 32 => 0x3F26A350#32
  | 33 => 0x400EE341#32
  | 34 => 0xBD5FF9A1#32
  | 35 => 0xBFCB6A4A#32
  | 36 => 0xBF455CEC#32
  | 37 => 0x404105C8#32
  | 38 => 0xBEFB3539#32
  | 39 => 0x3F06544E#32
  | 40 => 0x3F92E2EA#32
  | 41 => 0xBF76F35C#32
  | 42 => 0x3F90D1E6#32
  | 43 => 0x3E9CC37C#32
  | 44 => 0x4068B6B9#32
  | 45 => 0x3F27FBEB#32
  | 46 => 0x3F8E0961#32
  | 47 => 0xBEEBECA4#32
  | 48 => 0xBF47DEDE#32
  | 49 => 0x3F78C1AE#32
  | 50 => 0x3F26D933#32
  | 51 => 0x3F297CB8#32
  | 52 => 0x3EC0A9C6#32
  | 53 => 0xBEAB6016#32
  | 54 => 0x3CD2B863#32
  | 55 => 0x40032674#32
  | 56 => 0x3ECB573A#32
  | 57 => 0x3F7CAE12#32
  | 58 => 0xBF9B2FDE#32
  | 59 => 0x40383A68#32
  | 60 => 0xBF5F53CA#32
  | 61 => 0xBF491AC9#32
  | 62 => 0xBF2F495D#32
  | 63 => 0x3DF069A8#32
  | 64 => 0xBEDD5BE8#32
  | 65 => 0x4048396B#32
  | 66 => 0xBF54ADAC#32
  | 67 => 0x3F21FEED#32
  | 68 => 0x3FDCEFE5#32
  | 69 => 0xBDD56462#32
  | 70 => 0x3F5C2F18#32
  | 71 => 0xBC435CA3#32
  | 72 => 0xBF9BF986#32
  | 73 => 0x3F05E773#32
  | 74 => 0xBF820024#32
  | 75 => 0x3F2C96D6#32
  | 76 => 0x3EE7E043#32
  | 77 => 0x3FF44553#32
  | 78 => 0x3F057730#32
  | 79 => 0xBDDBC16E#32
  | 80 => 0xBF0C61EC#32
  | 81 => 0x3E88050D#32
  | 82 => 0x3FBC0AEB#32
  | 83 => 0x3FAC6AB2#32
  | 84 => 0x3F0BE5C6#32
  | 85 => 0x405A7928#32
  | 86 => 0x3FAB9A8D#32
  | 87 => 0xBF6CBAD8#32
  | 88 => 0x40255AA8#32
  | 89 => 0xBFA8653B#32
  | 90 => 0xBEF1EBC5#32
  | 91 => 0x39B8C856#32
  | 92 => 0x3FEE9189#32
  | 93 => 0xBBB1ED1D#32
  | 94 => 0x3E0B107C#32
  | 95 => 0x3F586B22#32
  | 96 => 0xBEFB272C#32
  | 97 => 0x3C680EBA#32
  | 98 => 0xBF0EF88C#32
  | 99 => 0xBF0D56D1#32
  | 100 => 0x3FF9CE3D#32
  | 101 => 0x3F3F564E#32
  | 102 => 0xBD53C1C2#32
  | 103 => 0x3F4AE8A0#32
  | 104 => 0xBF617BF4#32
  | 105 => 0xBD66A4F4#32
  | 106 => 0x3EA56325#32
  | 107 => 0x3F9E6446#32
  | 108 => 0xBF886670#32
  | 109 => 0x4041A99D#32
  | 110 => 0x3F972A5B#32
  | 111 => 0x3FB26F35#32
  | 112 => 0x3F4178DB#32
  | 113 => 0x3F26C8B2#32
  | 114 => 0x3FDA21B3#32
  | 115 => 0xBE69E3BB#32
  | 116 => 0x404F0351#32
  | 117 => 0x3F5A8FB3#32
  | 118 => 0xBDF51032#32
  | 119 => 0x3F719FD2#32
  | 120 => 0xBF34E89E#32
  | 121 => 0x3FEAB641#32
  | 122 => 0x403C7037#32
  | 123 => 0xBF047426#32
  | 124 => 0x3EAE31AA#32
  | 125 => 0x4005B12A#32
  | 126 => 0x3D82735C#32
  | 127 => 0x40056FD8#32
  | _ => 0#32

noncomputable abbrev lit0t0_133 (i : Nat) : BitVec 32 := match i % 128 with
  | 0 => 0xBFCF2D69#32
  | 1 => 0x3CE7A15A#32
  | 2 => 0xBF1A2115#32
  | 3 => 0xBF6570C9#32
  | 4 => 0xBEE699A3#32
  | 5 => 0x3FF89FF9#32
  | 6 => 0x4017DABE#32
  | 7 => 0x3F46DFFB#32
  | 8 => 0x3F536799#32
  | 9 => 0xBE5275BB#32
  | 10 => 0x3D1DDA86#32
  | 11 => 0x3DE60BC9#32
  | 12 => 0x3F0F1377#32
  | 13 => 0x3E21C797#32
  | 14 => 0x3F235352#32
  | 15 => 0xBF06EE1B#32
  | 16 => 0xBF79A17E#32
  | 17 => 0xBF7B8DAC#32
  | 18 => 0x3FA96A21#32
  | 19 => 0xBE7BC1EF#32
  | 20 => 0x3F810B84#32
  | 21 => 0x3FCC152A#32
  | 22 => 0xBF15D2FB#32
  | 23 => 0x405471F0#32
  | 24 => 0x3F5627B0#32
  | 25 => 0x402E7DF4#32
  | 26 => 0xBFBAE391#32
  | 27 => 0x3FC3BEB8#32
  | 28 => 0xBF2BA826#32
  | 29 => 0xBE93BD40#32
  | 30 => 0x3FD7E265#32
  | 31 => 0x3D25AE80#32
  | 32 => 0x3F8B33EC#32
  | 33 => 0x40758FB7#32
  | 34 => 0xBF3FAB98#32
  | 35 => 0xBD01CB32#32
  | 36 => 0x3F2DDBE0#32
  | 37 => 0x4081EA65#32
  | 38 => 0x40287E60#32
  | 39 => 0x3F19E915#32
  | 40 => 0x3EA6020C#32
  | 41 => 0x3FCB785E#32
  | 42 => 0xBEA39CC3#32
  | 43 => 0xBF90AC7D#32
  | 44 => 0x3E546766#32
  | 45 => 0xBD19D25F#32
  | 46 => 0x3D110863#32
  | 47 => 0xBF4D0BD2#32
  | 48 => 0x3F0D9801#32
  | 49 => 0xBFF80CF9#32
  | 50 => 0x3F684D17#32
  | 51 => 0x3F31762A#32
  | 52 => 0x3FF73B2A#32
  | 53 => 0x401E82BD#32
  | 54 => 0x3F105A93#32
  | 55 => 0xBEE277A2#32
  | 56 => 0x405E9757#32
  | 57 => 0x3EACF121#32
  | 58 => 0xBF413CB8#32
  | 59 => 0xBFA0851C#32
  | 60 => 0x3FA0D799#32
  | 61 => 0x3FCF0B54#32
  | 62 => 0xBFD823FE#32
  | 63 => 0x3FFA91DE#32
  | 64 => 0xBEEEFE89#32
  | 65 => 0x3F625BE3#32
  | 66 => 0xBE8B1ED2#32
  | 67 => 0xBF8CD3DA#32
  | 68 => 0x3EF388AE#32
  | 69 => 0x3F5D6E8A#32
  | 70 => 0x403F48C0#32
  | 71 => 0xBE747883#32
  | 72 => 0xBF79D0B7#32
  | 73 => 0x40545A71#32
  | 74 => 0x3F729328#32
  | 75 => 0xBF3C2399#32
  | 76 => 0x40177764#32
  | 77 => 0x4050ABB2#32
  | 78 => 0xBE17BC63#32
  | 79 => 0xBE882709#32
  | 80 => 0x3F4DD95A#32
  | 81 => 0x3D1ACF36#32
  | 82 => 0xBDFFE9ED#32
  | 83 => 0x3EF8BDD8#32
  | 84 => 0x400A711A#32
  | 85 => 0x3F479878#32
  | 86 => 0x3FFA1F18#32
  | 87 => 0xBF508C83#32
  | 88 => 0x3FA2BB07#32
  | 89 => 0x3F505117#32
  | 90 => 0x3EF03364#32
  | 91 => 0x3D8BA02C#32
  | 92 => 0x3D8A9660#32
  | 93 => 0x3F9A749D#32
  | 94 => 0xBF92AA73#32
  | 95 => 0x40559E87#32
  | 96 => 0x3FDB5B4A#32
  | 97 => 0xBE81642C#32
  | 98 => 0x3D05F757#32
  | 99 => 0x3F2F1533#32
  | 100 => 0xBF4450DC#32
  | 101 => 0x3FF27BB6#32
  | 102 => 0x3F3099F5#32
  | 103 => 0xBEBD6158#32
  | 104 => 0xBE959523#32
  | 105 => 0x4004C12C#32
  | 106 => 0x40D34B8F#32
  | 107 => 0x3D1DDD40#32
  | 108 => 0x3EEBBA5F#32
  | 109 => 0xBEA858D8#32
  | 110 => 0x3E47407E#32
  | 111 => 0xBF0059D5#32
  | 112 => 0x3F04608A#32
  | 113 => 0x3E0C9F32#32
  | 114 => 0xBDCDC372#32
  | 115 => 0x3E17F0AC#32
  | 116 => 0x3F30A366#32
  | 117 => 0xBF46E470#32
  | 118 => 0x3F8A1F0E#32
  | 119 => 0x3F30949C#32
  | 120 => 0xBE927977#32
  | 121 => 0x40317320#32
  | 122 => 0x3FAA53F0#32
  | 123 => 0x3FE550B9#32
  | 124 => 0xBDEB419F#32
  | 125 => 0xBF614E5A#32
  | 126 => 0xBE4E017D#32
  | 127 => 0x3F94B356#32
  | _ => 0#32

noncomputable abbrev lit0t0_134 (i : Nat) : BitVec 32 := match i % 128 with
  | 0 => 0xBF13D4F2#32
  | 1 => 0x3E349F01#32
  | 2 => 0x3EA7AE3C#32
  | 3 => 0x3CBA6710#32
  | 4 => 0xBF880C9F#32
  | 5 => 0x3E86AA89#32
  | 6 => 0x3FA83316#32
  | 7 => 0x3EFF6056#32
  | 8 => 0x3F5248DE#32
  | 9 => 0xBEFFA285#32
  | 10 => 0x3F970084#32
  | 11 => 0xBC1F848F#32
  | 12 => 0x401EAB98#32
  | 13 => 0x3DF35B3A#32
  | 14 => 0x4077E316#32
  | 15 => 0xBF18D954#32
  | 16 => 0x3FB441C5#32
  | 17 => 0x3F4187BA#32
  | 18 => 0x3F936E14#32
  | 19 => 0x3C83DAB2#32
  | 20 => 0x3E3E424A#32
  | 21 => 0xBFA6FEBC#32
  | 22 => 0x3F3655E8#32
  | 23 => 0x3E5B1118#32
  | 24 => 0xBEA4CFFF#32
  | 25 => 0xBFA040A7#32
  | 26 => 0x3F0A6C22#32
  | 27 => 0x3F47882A#32
  | 28 => 0x3DF2A511#32
  | 29 => 0x3DDC2EF1#32
  | 30 => 0xBEC577A7#32
  | 31 => 0x3F3ACA38#32
  | 32 => 0xBDE7BA55#32
  | 33 => 0x3FBF20B4#32
  | 34 => 0x400D56B9#32
  | 35 => 0x3F7530E2#32
  | 36 => 0xBF5BD01A#32
  | 37 => 0x3F248454#32
  | 38 => 0xBF9E5ED0#32
  | 39 => 0x403F92FF#32
  | 40 => 0x3F05EAB1#32
  | 41 => 0x3D17BCC4#32
  | 42 => 0x3DC8835E#32
  | 43 => 0x3ED543D6#32
  | 44 => 0xBF725832#32
  | 45 => 0x4002E658#32
  | 46 => 0x400CE31A#32
  | 47 => 0xBE815F4B#32
  | 48 => 0xBF383EA2#32
  | 49 => 0xBE842188#32
  | 50 => 0x3F841717#32
  | 51 => 0x4068B61D#32
  | 52 => 0x3DF1C7EE#32
  | 53 => 0x40A60ADD#32
  | 54 => 0xBE933200#32
  | 55 => 0xBF4C9314#32
  | 56 => 0x400EF493#32
  | 57 => 0x3D73CB2C#32
  | 58 => 0x3EF23FF0#32
  | 59 => 0xBE81CE2C#32
  | 60 => 0x3E6FC878#32
  | 61 => 0x3EC0D043#32
  | 62 => 0x3E5EDD04#32
  | 63 => 0xBF3FFCCD#32
  | 64 => 0xBF277C0C#32
  | 65 => 0x3ECBE331#32
  | 66 => 0xBBA6C72A#32
  | 67 => 0x404679A9#32
  | 68 => 0x3E8538CB#32
  | 69 => 0xBF196455#32
  | 70 => 0x405AB2A4#32
  | 71 => 0xBFB54ABC#32
  | 72 => 0xBEC39F51#32
  | 73 => 0xBF9924F6#32
  | 74 => 0xBF06F1E6#32
  | 75 => 0xBF20D38D#32
  | 76 => 0x3ED9E360#32
  | 77 => 0xBEAA114D#32
  | 78 => 0x3F642D76#32
  | 79 => 0x3FE1EFCA#32
  | 80 => 0x408EDE90#32
  | 81 => 0xBF58CFC1#32
  | 82 => 0xBF519EE1#32
  | 83 => 0x3FAAD034#32
  | 84 => 0x3E9654FC#32
  | 85 => 0x3F97CF4B#32
  | 86 => 0x3D376A02#32
  | 87 => 0x40811F01#32
  | 88 => 0xBE39518B#32
  | 89 => 0xBF2FF349#32
  | 90 => 0x3EEFCD1B#32
  | 91 => 0x3F3A0DC3#32
  | 92 => 0xBE2E2A0D#32
  | 93 => 0xBF64417E#32
  | 94 => 0x3FE54528#32
  | 95 => 0xBE82637D#32
  | 96 => 0x3FEDFE3F#32
  | 97 => 0x3F438D23#32
  | 98 => 0xBEAEE1A0#32
  | 99 => 0x3FAFE87C#32
  | 100 => 0xBF593E97#32
  | 101 => 0xBF342F56#32
  | 102 => 0x3FD62CD6#32
  | 103 => 0xBF9B939A#32
  | 104 => 0xBDAEB02A#32
  | 105 => 0xBF1AE91A#32
  | 106 => 0xBF91208E#32
  | 107 => 0x3F49D78F#32
  | 108 => 0x3FE854FA#32
  | 109 => 0x3FA792FB#32
  | 110 => 0xBE6E5FF6#32
  | 111 => 0x4025571D#32
  | 112 => 0xBE592242#32
  | 113 => 0x3EADBCA6#32
  | 114 => 0x3FADE4F1#32
  | 115 => 0xBF8FAABE#32
  | 116 => 0x3CAEC49F#32
  | 117 => 0x3F19F12C#32
  | 118 => 0x3FD62B14#32
  | 119 => 0x3F68B937#32
  | 120 => 0xBF052A37#32
  | 121 => 0x3FC26FD0#32
  | 122 => 0x4049DF6A#32
  | 123 => 0x3E912B5F#32
  | 124 => 0xBF2A494B#32
  | 125 => 0x3FC67F8C#32
  | 126 => 0xBEA4D05D#32
  | 127 => 0x3E6FACC4#32
  | _ => 0#32

noncomputable abbrev lit0t0_135 (i : Nat) : BitVec 32 := match i % 128 with
  | 0 => 0x401967B0#32
  | 1 => 0xBE739D3E#32
  | 2 => 0xBEECD567#32
  | 3 => 0xBF0CF9B1#32
  | 4 => 0x3FC3A69D#32
  | 5 => 0xBF0D0258#32
  | 6 => 0x3FF5E2DB#32
  | 7 => 0xBF15A1EA#32
  | 8 => 0x3ECECD08#32
  | 9 => 0x3F9A648E#32
  | 10 => 0xBF700A7C#32
  | 11 => 0xBED91AE1#32
  | 12 => 0xBF3EB754#32
  | 13 => 0xBF12C5A4#32
  | 14 => 0x3DFF35A2#32
  | 15 => 0xBF405BCC#32
  | 16 => 0x3F854DF6#32
  | 17 => 0xBF39B6C0#32
  | 18 => 0xBF4375F1#32
  | 19 => 0x3E88D889#32
  | 20 => 0x400F7D7E#32
  | 21 => 0x3F047D15#32
  | 22 => 0xBF03AB0A#32
  | 23 => 0xBF84F3CA#32
  | 24 => 0x3F537FEE#32
  | 25 => 0x3FF2C570#32
  | 26 => 0x3FE4A494#32
  | 27 => 0x3E517643#32
  | 28 => 0x3FE5D0BE#32
  | 29 => 0x3F32060D#32
  | 30 => 0x3DF93E47#32
  | 31 => 0xBF6CF095#32
  | 32 => 0x407C0F34#32
  | 33 => 0x40660CA5#32
  | 34 => 0x3F5DC61E#32
  | 35 => 0xBE8D1BE5#32
  | 36 => 0xBEB5EA73#32
  | 37 => 0x3E499F5D#32
  | 38 => 0xBB9EFE18#32
  | 39 => 0x3F035E7C#32
  | 40 => 0xBE611468#32
  | 41 => 0x3FF06B7E#32
  | 42 => 0xBED81088#32
  | 43 => 0x406C794B#32
  | 44 => 0xBF2FE61D#32
  | 45 => 0xBF04A432#32
  | 46 => 0x3DAAC140#32
  | 47 => 0x3F6109BF#32
  | 48 => 0xBF4827DC#32
  | 49 => 0xBF1297A6#32
  | 50 => 0x3FA737C5#32
  | 51 => 0xBEAE7EC6#32
  | 52 => 0x3DA32670#32
  | 53 => 0x3F2DF774#32
  | 54 => 0xBD2EDB89#32
  | 55 => 0x3EB63CC6#32
  | 56 => 0x3E6D1093#32
  | 57 => 0xBF7CC6DB#32
  | 58 => 0xBF5BE07A#32
  | 59 => 0xBBBC1390#32
  | 60 => 0xBFA86FFE#32
  | 61 => 0x4021D47D#32
  | 62 => 0x3E5BF7AE#32
  | 63 => 0x3FA9121C#32
  | 64 => 0x4008DF1E#32
  | 65 => 0x3F3B583A#32
  | 66 => 0x3EF7691E#32
  | 67 => 0x3F80FD12#32
  | 68 => 0xBD98580F#32
  | 69 => 0x400FB0A2#32
  | 70 => 0x3DFC5B56#32
  | 71 => 0x3FFBD64E#32
  | 72 => 0x3FC1EA53#32
  | 73 => 0x3E203649#32
  | 74 => 0x3F524908#32
  | 75 => 0xBE8CAFC5#32
  | 76 => 0x3F08522D#32
  | 77 => 0x3F1EAEC2#32
  | 78 => 0xBE4EED76#32
  | 79 => 0x4015229C#32
  | 80 => 0x3DAC6CCD#32
  | 81 => 0x3F10A743#32
  | 82 => 0x3F9E9580#32
  | 83 => 0x40773616#32
  | 84 => 0x3F8B87B3#32
  | 85 => 0xBF1DED42#32
  | 86 => 0xBFA2B9EE#32
  | 87 => 0x3F2C2676#32
  | 88 => 0xBF61D4A6#32
  | 89 => 0xBF5A3123#32
  | 90 => 0x3ED0DE9D#32
  | 91 => 0x3F48482C#32
  | 92 => 0xBF742E42#32
  | 93 => 0xBED50B0D#32
  | 94 => 0xBF2C2B54#32
  | 95 => 0xBF1828A5#32
  | 96 => 0x3F92AA36#32
  | 97 => 0x3EB86D2C#32
  | 98 => 0xBF1FFDEF#32
  | 99 => 0x3F939498#32
  | 100 => 0xBE9D684E#32
  | 101 => 0x401D0072#32
  | 102 => 0x3F05E95A#32
  | 103 => 0xBED8C50F#32
  | 104 => 0xBF9797E6#32
  | 105 => 0xBD41158E#32
  | 106 => 0xBED94D5B#32
  | 107 => 0x3EB9DC1A#32
  | 108 => 0xBE17EF5D#32
  | 109 => 0x3F3DDF0B#32
  | 110 => 0x3FF30420#32
  | 111 => 0xBF3921A1#32
  | 112 => 0xBEDAB2AC#32
  | 113 => 0x3EFA6AD4#32
  | 114 => 0xBCC4818B#32
  | 115 => 0xBD5D0263#32
  | 116 => 0xBEB49195#32
  | 117 => 0x3FEB09E1#32
  | 118 => 0x3FAD0B7B#32
  | 119 => 0x3F6C8B46#32
  | 120 => 0xBFB3415A#32
  | 121 => 0x3F65048D#32
  | 122 => 0xBE950C08#32
  | 123 => 0x3F30D7C7#32
  | 124 => 0x3F7E65A7#32
  | 125 => 0x3F9F9A1F#32
  | 126 => 0x3E1E3445#32
  | 127 => 0x3FB41411#32
  | _ => 0#32

noncomputable abbrev lit0t0_136 (i : Nat) : BitVec 32 := match i % 128 with
  | 0 => 0xBF188F14#32
  | 1 => 0xBE5780E5#32
  | 2 => 0xBD07753A#32
  | 3 => 0x3FAEF0FF#32
  | 4 => 0x3E543B60#32
  | 5 => 0xBF8907F8#32
  | 6 => 0xBEDC535D#32
  | 7 => 0x3F7E208C#32
  | 8 => 0x403ADBFC#32
  | 9 => 0xBE3AE8E9#32
  | 10 => 0x408470F7#32
  | 11 => 0xBF046A01#32
  | 12 => 0x3FFA0201#32
  | 13 => 0x400C7CDC#32
  | 14 => 0x3F929D48#32
  | 15 => 0xBF77733E#32
  | 16 => 0x3E9118BB#32
  | 17 => 0xBF70C9A5#32
  | 18 => 0x3F982E8B#32
  | 19 => 0x3D189ACD#32
  | 20 => 0xBEB5BD9D#32
  | 21 => 0xBF1A3892#32
  | 22 => 0x402FEF4E#32
  | 23 => 0x3F1D72E7#32
  | 24 => 0x3F88F3C4#32
  | 25 => 0x3F792084#32
  | 26 => 0xBE47CD4F#32
  | 27 => 0x3F4009DD#32
  | 28 => 0x3F411644#32
  | 29 => 0x3F84E34E#32
  | 30 => 0xBF147508#32
  | 31 => 0x3FB69DE0#32
  | 32 => 0xBF15D14D#32
  | 33 => 0x3E92AFAB#32
  | 34 => 0x4019F318#32
  | 35 => 0x3EB5943C#32
  | 36 => 0x3ECF3391#32
  | 37 => 0xBF20CD47#32
  | 38 => 0x3FC34723#32
  | 39 => 0x3DB12FD9#32
  | 40 => 0x3E2CE5F0#32
  | 41 => 0xBF17D4BF#32
  | 42 => 0xBE62585D#32
  | 43 => 0x406ED536#32
  | 44 => 0x3FF19639#32
  | 45 => 0x403127E8#32
  | 46 => 0x3F3EAC92#32
  | 47 => 0x3FC902F9#32
  | 48 => 0x3EF4416C#32
  | 49 => 0x4029E1D4#32
  | 50 => 0xBF446CB5#32
  | 51 => 0x3F10C678#32
  | 52 => 0x3EB4887D#32
  | 53 => 0x3E9C0129#32
  | 54 => 0x3FE9A981#32
  | 55 => 0xBFD2750D#32
  | 56 => 0x3F84B683#32
  | 57 => 0x3F5E7119#32
  | 58 => 0xBF4837BB#32
  | 59 => 0xBF83C9BC#32
  | 60 => 0x3E0742D5#32
  | 61 => 0xBF6891DC#32
  | 62 => 0xBF4F6B04#32
  | 63 => 0x3CF6F638#32
  | 64 => 0x3F98F53E#32
  | 65 => 0x3F0B41A5#32
  | 66 => 0xBB763574#32
  | 67 => 0x3FDDAFCF#32
  | 68 => 0x3F512DD6#32
  | 69 => 0x4059FB52#32
  | 70 => 0xBF98339F#32
  | 71 => 0xBF660217#32
  | 72 => 0xBEA50FE9#32
  | 73 => 0x3F8DE135#32
  | 74 => 0xBB7DD400#32
  | 75 => 0x3F96A926#32
  | 76 => 0xBF472C1E#32
  | 77 => 0x3F1F478E#32
  | 78 => 0x408499B5#32
  | 79 => 0xBF06FA74#32
  | 80 => 0x4000860F#32
  | 81 => 0x40137663#32
  | 82 => 0x3FE4042A#32
  | 83 => 0xBF012DD8#32
  | 84 => 0x3F3EC16A#32
  | 85 => 0x3F6DCDEC#32
  | 86 => 0x3E5AA77E#32
  | 87 => 0x3E82BEB5#32
  | 88 => 0x3F9E8663#32
  | 89 => 0xBE3184D9#32
  | 90 => 0xBE5442B5#32
  | 91 => 0x3EF8F9E6#32
  | 92 => 0xBF029B2C#32
  | 93 => 0x3FF348B4#32
  | 94 => 0x3FD45FBB#32
  | 95 => 0x401A643E#32
  | 96 => 0x3F85A4E4#32
  | 97 => 0x3F46A1A0#32
  | 98 => 0x3D5CBA9E#32
  | 99 => 0xBF8588C8#32
  | 100 => 0x3F0991EB#32
  | 101 => 0x3F950FF1#32
  | 102 => 0x3FF35EDE#32
  | 103 => 0x404EAE59#32
  | 104 => 0xBF14826B#32
  | 105 => 0x3DE4CC57#32
  | 106 => 0x408DF4B9#32
  | 107 => 0xBF7CCC92#32
  | 108 => 0xBF8A367F#32
  | 109 => 0xBFAF1ACE#32
  | 110 => 0x3FBC619A#32
  | 111 => 0xBF4CA299#32
  | 112 => 0xBF932E90#32
  | 113 => 0xBEF532F8#32
  | 114 => 0x3F3421AB#32
  | 115 => 0x3EDFB3CD#32
  | 116 => 0x3FA724C9#32
  | 117 => 0x3E6EE540#32
  | 118 => 0x4011BCDA#32
  | 119 => 0x3FEA7068#32
  | 120 => 0x3EF1B044#32
  | 121 => 0x3F3BC40C#32
  | 122 => 0x3EE6C1BD#32
  | 123 => 0xBEAE10AB#32
  | 124 => 0x3F091A98#32
  | 125 => 0xBF60C370#32
  | 126 => 0x3ECC55A6#32
  | 127 => 0x3FF36FC8#32
  | _ => 0#32

noncomputable abbrev lit0t0_137 (i : Nat) : BitVec 32 := match i % 128 with
  | 0 => 0x3F546221#32
  | 1 => 0x3FB779CA#32
  | 2 => 0xBFA3C2DF#32
  | 3 => 0x3ECABC10#32
  | 4 => 0x3FAA9470#32
  | 5 => 0x3F1DCAEC#32
  | 6 => 0x3E9B1C77#32
  | 7 => 0x3F211201#32
  | 8 => 0x3E7F05AD#32
  | 9 => 0xBF64BC11#32
  | 10 => 0x3FB02492#32
  | 11 => 0x3FF57BA6#32
  | 12 => 0x3FD8E951#32
  | 13 => 0x40041CA3#32
  | 14 => 0x4004BBF0#32
  | 15 => 0x3F2E4C4D#32
  | 16 => 0x3EA56574#32
  | 17 => 0xBF18105D#32
  | 18 => 0xBF953218#32
  | 19 => 0x3E918140#32
  | 20 => 0x3FC344B4#32
  | 21 => 0xBF5D30EE#32
  | 22 => 0xBF7895B6#32
  | 23 => 0xBEA249A4#32
  | 24 => 0x408E7CB0#32
  | 25 => 0xBE7B9A2B#32
  | 26 => 0x3E8E6202#32
  | 27 => 0x3DCEFC11#32
  | 28 => 0xBD5207DB#32
  | 29 => 0x3F8AFADB#32
  | 30 => 0x3F6F4C7B#32
  | 31 => 0xBF58B5C7#32
  | 32 => 0x3F6B9EE2#32
  | 33 => 0x400CA505#32
  | 34 => 0x3F28B943#32
  | 35 => 0xBF296821#32
  | 36 => 0xBE6E9F64#32
  | 37 => 0xBECE6797#32
  | 38 => 0x3F5E5174#32
  | 39 => 0xBF44D32D#32
  | 40 => 0x4098185C#32
  | 41 => 0x40796024#32
  | 42 => 0xBF47A280#32
  | 43 => 0xBE94661A#32
  | 44 => 0x40254149#32
  | 45 => 0x3F0C816E#32
  | 46 => 0x3F6F63CA#32
  | 47 => 0x3F810FBE#32
  | 48 => 0x3E8D76EC#32
  | 49 => 0x3E6E2B05#32
  | 50 => 0x3F1E6CC6#32
  | 51 => 0xBF687256#32
  | 52 => 0xBE21928D#32
  | 53 => 0x3EC7B418#32
  | 54 => 0x3EB60DFE#32
  | 55 => 0xBEF36A8F#32
  | 56 => 0xBF45104E#32
  | 57 => 0x3E8AECB3#32
  | 58 => 0x3F823F00#32
  | 59 => 0x3D98A181#32
  | 60 => 0x3E96361E#32
  | 61 => 0x3F57638B#32
  | 62 => 0xBF57F423#32
  | 63 => 0x3F6B9376#32
  | 64 => 0x3DF87329#32
  | 65 => 0x3FAEA3DB#32
  | 66 => 0x400AD6C7#32
  | 67 => 0x3E261E16#32
  | 68 => 0xBF6B66AC#32
  | 69 => 0xBE8FE6EC#32
  | 70 => 0xBF404A3E#32
  | 71 => 0x3FC7EC6A#32
  | 72 => 0x4046E0A0#32
  | 73 => 0xBF085582#32
  | 74 => 0x3EA67018#32
  | 75 => 0x3F841F1F#32
  | 76 => 0x3FEFC5A2#32
  | 77 => 0x3FA8E807#32
  | 78 => 0xBF300506#32
  | 79 => 0x3E50E72A#32
  | 80 => 0x3F1D1ACC#32
  | 81 => 0xBF6B4E94#32
  | 82 => 0x3FE5AAEF#32
  | 83 => 0xBE822FE1#32
  | 84 => 0xBE0FEC68#32
  | 85 => 0x3F42EDA9#32
  | 86 => 0xBF402800#32
  | 87 => 0x3F813653#32
  | 88 => 0xBED8F30E#32
  | 89 => 0xBF0D6A83#32
  | 90 => 0x3FAF33DB#32
  | 91 => 0xBF849449#32
  | 92 => 0x40670DD5#32
  | 93 => 0xBFE039FC#32
  | 94 => 0x3E9BE77A#32
  | 95 => 0xBE0CE04C#32
  | 96 => 0xBF9AD720#32
  | 97 => 0xBCD3D96A#32
  | 98 => 0x3E2328BF#32
  | 99 => 0x3EDD7807#32
  | 100 => 0x40D12231#32
  | 101 => 0x3F98F9D1#32
  | 102 => 0xBF541CF1#32
  | 103 => 0x3FD46B2E#32
  | 104 => 0x3ED97458#32
  | 105 => 0x4016C933#32
  | 106 => 0x3F97BD3E#32
  | 107 => 0x3F18A9CD#32
  | 108 => 0x3E75B257#32
  | 109 => 0xBFA92321#32
  | 110 => 0x3F723418#32
  | 111 => 0x4054A9D9#32
  | 112 => 0xBF8EAF37#32
  | 113 => 0x404ED54E#32
  | 114 => 0x3FC564F6#32
  | 115 => 0x3F1262A8#32
  | 116 => 0x3F0A35A6#32
  | 117 => 0x3C9BA1F4#32
  | 118 => 0x3F228DB6#32
  | 119 => 0x3E7A1DA3#32
  | 120 => 0x3FCD2DA5#32
  | 121 => 0xBE80DD24#32
  | 122 => 0x3D9E6FFF#32
  | 123 => 0xBEF81608#32
  | 124 => 0xBEE7D96E#32
  | 125 => 0x40DD7506#32
  | 126 => 0x3FABAA7A#32
  | 127 => 0x3D24A225#32
  | _ => 0#32

noncomputable abbrev lit0t0_138 (i : Nat) : BitVec 32 := match i % 128 with
  | 0 => 0xBEB950F8#32
  | 1 => 0xBF10BBEA#32
  | 2 => 0x3ECF396A#32
  | 3 => 0xBE7420E7#32
  | 4 => 0x40117119#32
  | 5 => 0x401488BA#32
  | 6 => 0xBEC57EBB#32
  | 7 => 0x3FCD09F2#32
  | 8 => 0x3FA97B46#32
  | 9 => 0xBF77EC06#32
  | 10 => 0x3F2D3534#32
  | 11 => 0x3D86DC8E#32
  | 12 => 0x401BBB8B#32
  | 13 => 0x4095AE4C#32
  | 14 => 0x3D6C825B#32
  | 15 => 0x3D5C0F77#32
  | 16 => 0xBDBC1018#32
  | 17 => 0xBFAE9DE5#32
  | 18 => 0x3F50D5C9#32
  | 19 => 0x3E82FA68#32
  | 20 => 0x3E9A796B#32
  | 21 => 0xBEBF7CE7#32
  | 22 => 0x407E8C17#32
  | 23 => 0x401F7D6F#32
  | 24 => 0x40115F96#32
  | 25 => 0x40752CF7#32
  | 26 => 0xBE715ECC#32
  | 27 => 0x3E9357FE#32
  | 28 => 0x3F1D81F8#32
  | 29 => 0xBF04DF53#32
  | 30 => 0x3FAD5BF2#32
  | 31 => 0x3FCA761D#32
  | 32 => 0xBF8C7910#32
  | 33 => 0x3FF72D36#32
  | 34 => 0xBFE4A941#32
  | 35 => 0x3F2EC031#32
  | 36 => 0xBEE2AA3E#32
  | 37 => 0xBD7D15C2#32
  | 38 => 0x4078F1BA#32
  | 39 => 0x3FCD632D#32
  | 40 => 0x3FB218B4#32
  | 41 => 0x404C7ACA#32
  | 42 => 0x3FBDF9C8#32
  | 43 => 0xBEEDA53E#32
  | 44 => 0x3EBE63E7#32
  | 45 => 0x3E1F612F#32
  | 46 => 0xBDCDE5A5#32
  | 47 => 0xBE1534AA#32
  | 48 => 0x3F394FEA#32
  | 49 => 0x3E7B2D92#32
  | 50 => 0xBEE55CC4#32
  | 51 => 0x3E9BADFA#32
  | 52 => 0x40310371#32
  | 53 => 0x3F4A8253#32
  | 54 => 0x4057FACC#32
  | 55 => 0xBF420AE5#32
  | 56 => 0x3E40AA04#32
  | 57 => 0xBE08BD65#32
  | 58 => 0x3FDD96A0#32
  | 59 => 0xBECAEDA5#32
  | 60 => 0x3F3BAD84#32
  | 61 => 0x3D91EBB0#32
  | 62 => 0x3F6C8E85#32
  | 63 => 0x40B31A3A#32
  | 64 => 0xBF091ED8#32
  | 65 => 0x3BF3E8D1#32
  | 66 => 0xBF52161A#32
  | 67 => 0x3F007519#32
  | 68 => 0x4013BCC0#32
  | 69 => 0xBF53FFE8#32
  | 70 => 0x3EA4BD20#32
  | 71 => 0xBF16A05D#32
  | 72 => 0xBFB58AF0#32
  | 73 => 0x3F06E14C#32
  | 74 => 0x3ECE42F2#32
  | 75 => 0xBDBC8265#32
  | 76 => 0x4045D6B6#32
  | 77 => 0x3FEB6986#32
  | 78 => 0xBF627180#32
  | 79 => 0x3F22BF3B#32
  | 80 => 0xBF841C54#32
  | 81 => 0xBF20EA42#32
  | 82 => 0x3E9E5B4C#32
  | 83 => 0xBEBD9806#32
  | 84 => 0x3FC1FC10#32
  | 85 => 0xBF4AB7C6#32
  | 86 => 0x3EDA0F0C#32
  | 87 => 0x3F41D1B4#32
  | 88 => 0x3F9D1C70#32
  | 89 => 0xBF1F78FD#32
  | 90 => 0x400005DC#32
  | 91 => 0x3FE1B1C4#32
  | 92 => 0x40527D2B#32
  | 93 => 0xBEAB8742#32
  | 94 => 0xBF7EAE8B#32
  | 95 => 0x3F580CDD#32
  | 96 => 0x3F4A86A2#32
  | 97 => 0x3E8B434A#32
  | 98 => 0xBF7D1CD0#32
  | 99 => 0x3FDD0A20#32
  | 100 => 0x4007FC69#32
  | 101 => 0x4008E87B#32
  | 102 => 0x3F214FDB#32
  | 103 => 0x3E7149E9#32
  | 104 => 0xBE8DCF0D#32
  | 105 => 0xBF20666B#32
  | 106 => 0xBD847F96#32
  | 107 => 0x3F1B91D6#32
  | 108 => 0x3E23F129#32
  | 109 => 0x3ED07E14#32
  | 110 => 0xBF12B418#32
  | 111 => 0xBF6A8EE8#32
  | 112 => 0xBE00319A#32
  | 113 => 0x3EB54831#32
  | 114 => 0xBE8C9871#32
  | 115 => 0xBD3148FD#32
  | 116 => 0x3FDCB89A#32
  | 117 => 0x3E9159BA#32
  | 118 => 0x3F115BFD#32
  | 119 => 0x3EF639F9#32
  | 120 => 0x402848C3#32
  | 121 => 0x3FBEFE20#32
  | 122 => 0xBFB4D5F3#32
  | 123 => 0x40690C78#32
  | 124 => 0x3EAA1AE8#32
  | 125 => 0x3F34B75D#32
  | 126 => 0xBF84D815#32
  | 127 => 0xBF2EFDC8#32
  | _ => 0#32

noncomputable abbrev lit0t0_139 (i : Nat) : BitVec 32 := match i % 128 with
  | 0 => 0xBE34FA96#32
  | 1 => 0x3E3431F3#32
  | 2 => 0x3F67CEA0#32
  | 3 => 0x406BED70#32
  | 4 => 0x3EBEB0A4#32
  | 5 => 0xBFB4CC20#32
  | 6 => 0x3F67F34E#32
  | 7 => 0x3FFAE02A#32
  | 8 => 0x3F260876#32
  | 9 => 0xBF08FB4E#32
  | 10 => 0xBF721B17#32
  | 11 => 0xBDC395B3#32
  | 12 => 0xBFC32382#32
  | 13 => 0x3FEB3D2F#32
  | 14 => 0xBD129D6B#32
  | 15 => 0x3F9EFEE2#32
  | 16 => 0x3FE80E58#32
  | 17 => 0x3F1A6EE3#32
  | 18 => 0x3FA6642D#32
  | 19 => 0xBF3EFA65#32
  | 20 => 0x400859FC#32
  | 21 => 0xBF6B39A0#32
  | 22 => 0x4073FF92#32
  | 23 => 0xBF0C7157#32
  | 24 => 0x3F8E5864#32
  | 25 => 0x3EEEDE54#32
  | 26 => 0x405D0AF8#32
  | 27 => 0x3FB8DF53#32
  | 28 => 0x3EAC77EB#32
  | 29 => 0x3E555597#32
  | 30 => 0x3F854C3E#32
  | 31 => 0x3ECA037D#32
  | 32 => 0x3FF0AF69#32
  | 33 => 0xBF20D060#32
  | 34 => 0x3F9F63E9#32
  | 35 => 0x3F455C5E#32
  | 36 => 0xBE4372AE#32
  | 37 => 0xBF04AF7E#32
  | 38 => 0xBF247874#32
  | 39 => 0x40C08599#32
  | 40 => 0x3FB804AA#32
  | 41 => 0xBEBBAE17#32
  | 42 => 0x4006D9F6#32
  | 43 => 0x3E361E09#32
  | 44 => 0x3F955283#32
  | 45 => 0x3E6BFB41#32
  | 46 => 0x3F74E280#32
  | 47 => 0x3FAE63EF#32
  | 48 => 0x3F7E8978#32
  | 49 => 0x3EDA9188#32
  | 50 => 0x3F3BC998#32
  | 51 => 0xBE5FE5ED#32
  | 52 => 0x3E8E6061#32
  | 53 => 0x3FE113ED#32
  | 54 => 0xBF4E9820#32
  | 55 => 0x3FDE5B44#32
  | 56 => 0x3EE9FF21#32
  | 57 => 0x3FE2DB6E#32
  | 58 => 0x3FE1C6F8#32
  | 59 => 0xBEF19799#32
  | 60 => 0x3FCCEE18#32
  | 61 => 0x3DAF2A84#32
  | 62 => 0x403D74A7#32
  | 63 => 0xBF68A33F#32
  | 64 => 0x3F814361#32
  | 65 => 0xBF223916#32
  | 66 => 0x3E3CD4CC#32
  | 67 => 0xBF6F190C#32
  | 68 => 0x3EECD916#32
  | 69 => 0x3FBBE508#32
  | 70 => 0x3FFC0C43#32
  | 71 => 0xBFA6423A#32
  | 72 => 0xBECAD7E8#32
  | 73 => 0x3CC1BEAC#32
  | 74 => 0xBF3FF9BB#32
  | 75 => 0x3EF05AD6#32
  | 76 => 0x3FA7AFA4#32
  | 77 => 0x40092505#32
  | 78 => 0xBE7BE036#32
  | 79 => 0xBE9F84DD#32
  | 80 => 0x3E49E291#32
  | 81 => 0xBF3D2B3F#32
  | 82 => 0xBF24BA4E#32
  | 83 => 0x3F474E40#32
  | 84 => 0x3EBE1C2A#32
  | 85 => 0x3FDFD43E#32
  | 86 => 0x3FE0C37C#32
  | 87 => 0xBF46FCC8#32
  | 88 => 0x3FB0CEE0#32
  | 89 => 0xBFD31F4A#32
  | 90 => 0xBF498CEC#32
  | 91 => 0xBF1F0C37#32
  | 92 => 0x3F8308B6#32
  | 93 => 0xBFF0131E#32
  | 94 => 0xBDA35973#32
  | 95 => 0x3FB00D06#32
  | 96 => 0x3F9AD428#32
  | 97 => 0x3E425160#32
  | 98 => 0xBFCC5A91#32
  | 99 => 0xBFB3ACDA#32
  | 100 => 0x3F09BD73#32
  | 101 => 0x404AEB17#32
  | 102 => 0xBE64C016#32
  | 103 => 0x3F8924D2#32
  | 104 => 0xBEB68B52#32
  | 105 => 0x3F50AB84#32
  | 106 => 0x3FC8D9DA#32
  | 107 => 0x3F98311A#32
  | 108 => 0x3FE73D74#32
  | 109 => 0x3F67E499#32
  | 110 => 0x3E0BBD82#32
  | 111 => 0xBF3F8FCF#32
  | 112 => 0x3F305729#32
  | 113 => 0x3F7B5C5B#32
  | 114 => 0x3FB444BA#32
  | 115 => 0xBFC17507#32
  | 116 => 0x3E66F0EB#32
  | 117 => 0x3B94FD95#32
  | 118 => 0x3EA533A6#32
  | 119 => 0xBF6E466A#32
  | 120 => 0x3F7BBF40#32
  | 121 => 0xBF33B74C#32
  | 122 => 0xBEC0B7AF#32
  | 123 => 0xBF75A5D6#32
  | 124 => 0x3F022B3D#32
  | 125 => 0x3EB4FB65#32
  | 126 => 0xBFAA1904#32
  | 127 => 0xBED22C69#32
  | _ => 0#32

noncomputable abbrev lit0t0_140 (i : Nat) : BitVec 32 := match i % 128 with
  | 0 => 0xBF76EE2E#32
  | 1 => 0x3F2752E8#32
  | 2 => 0x3F471ACA#32
  | 3 => 0xBDF8E1AC#32
  | 4 => 0x3EEB3EB2#32
  | 5 => 0xBE431524#32
  | 6 => 0x3FBB9B00#32
  | 7 => 0x4016AB4D#32
  | 8 => 0x40398D2C#32
  | 9 => 0x4091C1CE#32
  | 10 => 0x3FE2A344#32
  | 11 => 0xBEEFB4DC#32
  | 12 => 0xBF882AF9#32
  | 13 => 0xBDAF25DB#32
  | 14 => 0x3E07CAB0#32
  | 15 => 0x3EC67BC6#32
  | 16 => 0x3FC2D208#32
  | 17 => 0xBF23BD91#32
  | 18 => 0x3DFAF3CA#32
  | 19 => 0xBED87C17#32
  | 20 => 0x40048168#32
  | 21 => 0xBF9414F1#32
  | 22 => 0x3E9479CD#32
  | 23 => 0xBD9AAD8E#32
  | 24 => 0x3FCFB0ED#32
  | 25 => 0x405048B4#32
  | 26 => 0x3F9A709E#32
  | 27 => 0x4001B284#32
  | 28 => 0x3F2F4D93#32
  | 29 => 0x3F13B43D#32
  | 30 => 0xBF6BF0E2#32
  | 31 => 0x40A2353E#32
  | 32 => 0x3EB89212#32
  | 33 => 0xBF449524#32
  | 34 => 0x3F5B7F4E#32
  | 35 => 0x3D9705C6#32
  | 36 => 0x3FBD0E47#32
  | 37 => 0x3E61EE5C#32
  | 38 => 0xBCA33875#32
  | 39 => 0x3FAE9126#32
  | 40 => 0x3E68E90B#32
  | 41 => 0x3FDDF8AE#32
  | 42 => 0xBF997570#32
  | 43 => 0xBF63848C#32
  | 44 => 0xBEF5C0BA#32
  | 45 => 0x3F027BF7#32
  | 46 => 0x3EDC3F4F#32
  | 47 => 0x3F1EABD9#32
  | 48 => 0xBEDE2C29#32
  | 49 => 0x406F10B4#32
  | 50 => 0xBFAC6AED#32
  | 51 => 0x3F7F8338#32
  | 52 => 0x3EDC01DC#32
  | 53 => 0x3EDDC58B#32
  | 54 => 0x3F8A2914#32
  | 55 => 0xBEF62BAA#32
  | 56 => 0xBF83B368#32
  | 57 => 0x4003E5A1#32
  | 58 => 0x3FB6AE52#32
  | 59 => 0x3FE67533#32
  | 60 => 0x3FC1395C#32
  | 61 => 0xBEC4F998#32
  | 62 => 0xBF0909F8#32
  | 63 => 0x3E83E7CA#32
  | 64 => 0x3F38AC24#32
  | 65 => 0x3E6BA632#32
  | 66 => 0xBFA5740A#32
  | 67 => 0x3F0647D9#32
  | 68 => 0x3FEC5D0E#32
  | 69 => 0x3F543847#32
  | 70 => 0x3F72579C#32
  | 71 => 0xBED143B8#32
  | 72 => 0xBE9F396A#32
  | 73 => 0x3E159C85#32
  | 74 => 0x403D56AA#32
  | 75 => 0x3E0532CE#32
  | 76 => 0x40034E97#32
  | 77 => 0xBF02133A#32
  | 78 => 0x40E93645#32
  | 79 => 0xBF7F5D02#32
  | 80 => 0x3F0BFC87#32
  | 81 => 0x3F536883#32
  | 82 => 0x401852EA#32
  | 83 => 0xBDED0E7C#32
  | 84 => 0xBECBC37A#32
  | 85 => 0xBF9B4927#32
  | 86 => 0x3F49D764#32
  | 87 => 0xBF271125#32
  | 88 => 0xBE554DF3#32
  | 89 => 0xBE58A579#32
  | 90 => 0xBF8E97A4#32
  | 91 => 0xBF24A28C#32
  | 92 => 0x404691D5#32
  | 93 => 0xBE02224C#32
  | 94 => 0x3E33F14E#32
  | 95 => 0x3F8E945F#32
  | 96 => 0x3F5C00F6#32
  | 97 => 0x3FD5BEBB#32
  | 98 => 0x40745105#32
  | 99 => 0xBF335A7D#32
  | 100 => 0x3F0738A2#32
  | 101 => 0x4005DB54#32
  | 102 => 0xBF40376E#32
  | 103 => 0x3E6DEC63#32
  | 104 => 0x402B34AF#32
  | 105 => 0x402A887C#32
  | 106 => 0x3FAA7C58#32
  | 107 => 0xBF9993EC#32
  | 108 => 0x3FA96257#32
  | 109 => 0xBF206C99#32
  | 110 => 0x3E549620#32
  | 111 => 0x40434B42#32
  | 112 => 0x3EBDE2BB#32
  | 113 => 0x3D589C82#32
  | 114 => 0x3EB1B6AB#32
  | 115 => 0x3ED61347#32
  | 116 => 0xBD7E10BA#32
  | 117 => 0x3F128756#32
  | 118 => 0x3EBC8C73#32
  | 119 => 0x3E4C2A30#32
  | 120 => 0x3F775479#32
  | 121 => 0x400C2293#32
  | 122 => 0x3E3D7DBA#32
  | 123 => 0x3F9C5209#32
  | 124 => 0x3FED7EFD#32
  | 125 => 0xBDB0E6DE#32
  | 126 => 0xBF8067B2#32
  | 127 => 0x3F1F1422#32
  | _ => 0#32

noncomputable abbrev lit0t0_141 (i : Nat) : BitVec 32 := match i % 128 with
  | 0 => 0xBF809648#32
  | 1 => 0x3EA906DA#32
  | 2 => 0xBEDFBDD3#32
  | 3 => 0x40457E28#32
  | 4 => 0x3FAA47F2#32
  | 5 => 0x3E9BE71E#32
  | 6 => 0xBEFB93F1#32
  | 7 => 0x3EB2607D#32
  | 8 => 0x3FC42CE2#32
  | 9 => 0xBF794696#32
  | 10 => 0x3F9E5666#32
  | 11 => 0x401FC0DE#32
  | 12 => 0xBED5FB40#32
  | 13 => 0x3C6AEE23#32
  | 14 => 0x3E9CC1DA#32
  | 15 => 0xBD00A2D2#32
  | 16 => 0x3DDD7441#32
  | 17 => 0xBF15AD3A#32
  | 18 => 0xBF3DFC09#32
  | 19 => 0x3F953EDB#32
  | 20 => 0x3F43F147#32
  | 21 => 0x3F8C8791#32
  | 22 => 0x3F5AE26A#32
  | 23 => 0x3F949AC9#32
  | 24 => 0xBE3A167A#32
  | 25 => 0x4030D30C#32
  | 26 => 0x3F9E55AE#32
  | 27 => 0x3F6EE7CA#32
  | 28 => 0x3FA1209C#32
  | 29 => 0xBEDC86AC#32
  | 30 => 0x3EBC3778#32
  | 31 => 0x3EBC96BC#32
  | 32 => 0xBEF9ABAE#32
  | 33 => 0x3FAEC414#32
  | 34 => 0x403FC804#32
  | 35 => 0x3FA5A0AD#32
  | 36 => 0x3FC7F3E2#32
  | 37 => 0x3EE99168#32
  | 38 => 0x3F98A8C3#32
  | 39 => 0xBF1C2228#32
  | 40 => 0x3D852B99#32
  | 41 => 0x40800EE8#32
  | 42 => 0x3F53FE5A#32
  | 43 => 0x3F7EDCD7#32
  | 44 => 0xBFBE7F4A#32
  | 45 => 0x3FC4CB8C#32
  | 46 => 0x3F4A3F6B#32
  | 47 => 0xBE841FE7#32
  | 48 => 0x3F334FFD#32
  | 49 => 0xBF3F5A0D#32
  | 50 => 0xBB88E7AF#32
  | 51 => 0x3D3192DD#32
  | 52 => 0x3F5BE61D#32
  | 53 => 0x4010B5F4#32
  | 54 => 0xBF1920B5#32
  | 55 => 0xBE13EAAF#32
  | 56 => 0x3F865006#32
  | 57 => 0x4030B888#32
  | 58 => 0xBF26557F#32
  | 59 => 0x3FB971AC#32
  | 60 => 0x3E379554#32
  | 61 => 0xBEA8F9EC#32
  | 62 => 0x3DAB0CEF#32
  | 63 => 0x3F851278#32
  | 64 => 0x3CE7842A#32
  | 65 => 0x400E74D0#32
  | 66 => 0xBF152560#32
  | 67 => 0x3FC095E0#32
  | 68 => 0xBF9669F9#32
  | 69 => 0x3F845A8C#32
  | 70 => 0x3FA8847F#32
  | 71 => 0x3E85A4E6#32
  | 72 => 0xBF0D8388#32
  | 73 => 0xBF35844D#32
  | 74 => 0x3E718623#32
  | 75 => 0x3F8EAC49#32
  | 76 => 0x3F1D8774#32
  | 77 => 0x3F14F5DE#32
  | 78 => 0xBF813F16#32
  | 79 => 0xBEBB290D#32
  | 80 => 0x3F1EFFD4#32
  | 81 => 0x4071D87B#32
  | 82 => 0xBF0463F9#32
  | 83 => 0x3FF272DE#32
  | 84 => 0x3F82C174#32
  | 85 => 0x3F1EB3FA#32
  | 86 => 0x3FE1B23A#32
  | 87 => 0xBDB2F2D0#32
  | 88 => 0xBFB34F63#32
  | 89 => 0xBF0D44DC#32
  | 90 => 0x3F18E6EC#32
  | 91 => 0x3FEEA4BF#32
  | 92 => 0x3EF81FA1#32
  | 93 => 0xBF4ED9B3#32
  | 94 => 0x400F7D0B#32
  | 95 => 0x3FE321D6#32
  | 96 => 0x406981E4#32
  | 97 => 0xC0089575#32
  | 98 => 0x3FE7149A#32
  | 99 => 0xBE2449B8#32
  | 100 => 0x402B7899#32
  | 101 => 0xBF9ADF8D#32
  | 102 => 0x404C4F22#32
  | 103 => 0x3ECE5072#32
  | 104 => 0xBD7AAB78#32
  | 105 => 0x3F2C8A40#32
  | 106 => 0xBEB7BFEE#32
  | 107 => 0x3F0105E9#32
  | 108 => 0x4013D68B#32
  | 109 => 0x3FFF94C5#32
  | 110 => 0x3F1FCDE1#32
  | 111 => 0x3F5E0BF7#32
  | 112 => 0x3DD545A5#32
  | 113 => 0x3FDD712D#32
  | 114 => 0xBDE45D50#32
  | 115 => 0x3E62DB00#32
  | 116 => 0xBF7E8128#32
  | 117 => 0x3F6956A9#32
  | 118 => 0x4019EA05#32
  | 119 => 0x4005A1F5#32
  | 120 => 0xBF14F048#32
  | 121 => 0x4019EC3A#32
  | 122 => 0x3FD8239E#32
  | 123 => 0x3DCBB631#32
  | 124 => 0x3F6C50E3#32
  | 125 => 0x400FAADA#32
  | 126 => 0x3D711A54#32
  | 127 => 0xBF5E7892#32
  | _ => 0#32

noncomputable abbrev lit0t0_142 (i : Nat) : BitVec 32 := match i % 128 with
  | 0 => 0x3F1ECA24#32
  | 1 => 0x401D604A#32
  | 2 => 0xBF251D91#32
  | 3 => 0xBF4602BB#32
  | 4 => 0x3EF81A09#32
  | 5 => 0xBF018FA4#32
  | 6 => 0xBF020D7A#32
  | 7 => 0xBE445521#32
  | 8 => 0x3F5A8B84#32
  | 9 => 0x3F3E5CE4#32
  | 10 => 0x40294635#32
  | 11 => 0x3ECFC569#32
  | 12 => 0x3FFCB469#32
  | 13 => 0xBF15097B#32
  | 14 => 0x3D8302DB#32
  | 15 => 0xBF543383#32
  | 16 => 0xBE64094A#32
  | 17 => 0x3E94C4EC#32
  | 18 => 0x3E86296E#32
  | 19 => 0x3F208E43#32
  | 20 => 0x3FF10BDE#32
  | 21 => 0x3FEE2CC7#32
  | 22 => 0xBE05E89B#32
  | 23 => 0xBE653841#32
  | 24 => 0xBF4D0231#32
  | 25 => 0x406FCC97#32
  | 26 => 0x3DC997B6#32
  | 27 => 0xBE72AAA3#32
  | 28 => 0xBFA9B583#32
  | 29 => 0xBEA59D3B#32
  | 30 => 0x3E31296E#32
  | 31 => 0xBF34C197#32
  | 32 => 0x4019D73B#32
  | 33 => 0xBF986AAB#32
  | 34 => 0x401D8222#32
  | 35 => 0xBEE543B2#32
  | 36 => 0xBE62A75E#32
  | 37 => 0xBEBA7603#32
  | 38 => 0xBF464596#32
  | 39 => 0xBEA20AAC#32
  | 40 => 0x4005929B#32
  | 41 => 0x3DAAB6DC#32
  | 42 => 0x40106921#32
  | 43 => 0x403EB784#32
  | 44 => 0xBFC751D9#32
  | 45 => 0xBE826881#32
  | 46 => 0x3F67CEDA#32
  | 47 => 0xBF6C95F5#32
  | 48 => 0xBC82AC46#32
  | 49 => 0xBF8DA269#32
  | 50 => 0x3F07CE7E#32
  | 51 => 0x3FA6182E#32
  | 52 => 0xBFA443C2#32
  | 53 => 0xBE2D10F5#32
  | 54 => 0x3F5E5CAC#32
  | 55 => 0x3E35015C#32
  | 56 => 0x3F2047B0#32
  | 57 => 0x3F252543#32
  | 58 => 0x3FCD203D#32
  | 59 => 0x3F279231#32
  | 60 => 0xBF660CA8#32
  | 61 => 0x3FC8E46F#32
  | 62 => 0x3F8B4C16#32
  | 63 => 0x3FE13A1C#32
  | 64 => 0xBF0A46FC#32
  | 65 => 0x405DC9AD#32
  | 66 => 0xBF913FAE#32
  | 67 => 0x3FADC541#32
  | 68 => 0x407BBD68#32
  | 69 => 0xBF7F7F76#32
  | 70 => 0x4044B7CC#32
  | 71 => 0x400C2041#32
  | 72 => 0x4007BCF5#32
  | 73 => 0x3E0057C8#32
  | 74 => 0x3ED8C9DF#32
  | 75 => 0x3F284292#32
  | 76 => 0x3F656EF8#32
  | 77 => 0xBE9CD7E2#32
  | 78 => 0x3E9EE578#32
  | 79 => 0x3E0C689A#32
  | 80 => 0x3F0441D7#32
  | 81 => 0x3F85738B#32
  | 82 => 0x3DB08196#32
  | 83 => 0xBC9A6C8B#32
  | 84 => 0x3FC4E7E1#32
  | 85 => 0xBE41B25E#32
  | 86 => 0x3F1408D0#32
  | 87 => 0x3EA1C097#32
  | 88 => 0x3F3B02D7#32
  | 89 => 0x3EA25015#32
  | 90 => 0x3F97A09C#32
  | 91 => 0x3F37C0AC#32
  | 92 => 0xBF2DC233#32
  | 93 => 0x3E9C480A#32
  | 94 => 0xBE084D82#32
  | 95 => 0x4044F74C#32
  | 96 => 0x4073DBE9#32
  | 97 => 0xBF0A8368#32
  | 98 => 0xBF25CA7E#32
  | 99 => 0xBF8978C0#32
  | 100 => 0x3F06E94E#32
  | 101 => 0x3F7E04D3#32
  | 102 => 0x3FF06495#32
  | 103 => 0x40796120#32
  | 104 => 0xBF234427#32
  | 105 => 0xBEA10751#32
  | 106 => 0x3F85D822#32
  | 107 => 0x3F3B1674#32
  | 108 => 0x3F626B7E#32
  | 109 => 0x3F944DF5#32
  | 110 => 0xBE279207#32
  | 111 => 0x402A87A5#32
  | 112 => 0xBF93BB78#32
  | 113 => 0xBE96984E#32
  | 114 => 0xBF790FB4#32
  | 115 => 0xBF86F66A#32
  | 116 => 0x400DCB14#32
  | 117 => 0xBF5554FC#32
  | 118 => 0x3FAED15A#32
  | 119 => 0x3EB46556#32
  | 120 => 0x3FA3CAC7#32
  | 121 => 0x3FC53A26#32
  | 122 => 0x3FC8F403#32
  | 123 => 0xBF3BC20F#32
  | 124 => 0x402FE5C6#32
  | 125 => 0x3F8EC380#32
  | 126 => 0x3FE77770#32
  | 127 => 0x3E35CD17#32
  | _ => 0#32

noncomputable abbrev lit0t0_143 (i : Nat) : BitVec 32 := match i % 128 with
  | 0 => 0xBF13EB36#32
  | 1 => 0xBE94EEF8#32
  | 2 => 0xBF7AB8B8#32
  | 3 => 0x3F160C5E#32
  | 4 => 0x3F607F2C#32
  | 5 => 0x4008D4CE#32
  | 6 => 0x3F7B2050#32
  | 7 => 0x402CA528#32
  | 8 => 0xBED1C017#32
  | 9 => 0xBED5A38C#32
  | 10 => 0xBF9E1C25#32
  | 11 => 0x3EC8B8AA#32
  | 12 => 0xBF55A682#32
  | 13 => 0xBFA08D45#32
  | 14 => 0x3D72BB3D#32
  | 15 => 0x3FE09E46#32
  | 16 => 0xBEEB872A#32
  | 17 => 0xBDD6FE51#32
  | 18 => 0x3FA9D505#32
  | 19 => 0xBEAE071B#32
  | 20 => 0x409F0A54#32
  | 21 => 0x3F247C7C#32
  | 22 => 0xBEC785B2#32
  | 23 => 0x3F3157ED#32
  | 24 => 0x403964DB#32
  | 25 => 0x3E8B0FAC#32
  | 26 => 0xBF6691AC#32
  | 27 => 0xBE165D27#32
  | 28 => 0xBF282B4A#32
  | 29 => 0x3F9006EF#32
  | 30 => 0x3EAA0357#32
  | 31 => 0xBFE41D91#32
  | 32 => 0x3F9BDF1F#32
  | 33 => 0x3FCA2BFA#32
  | 34 => 0x3F1019CE#32
  | 35 => 0x403DF1B3#32
  | 36 => 0xBD0AC8DC#32
  | 37 => 0x4057EDEE#32
  | 38 => 0x3EF15C6C#32
  | 39 => 0x3EC577FD#32
  | 40 => 0xBF12FE76#32
  | 41 => 0xBD973C62#32
  | 42 => 0x3F0D6AE9#32
  | 43 => 0xBDEFD564#32
  | 44 => 0xBB9ED24F#32
  | 45 => 0x3F6CF9FA#32
  | 46 => 0x402EDF4C#32
  | 47 => 0x3F562978#32
  | 48 => 0x4070A667#32
  | 49 => 0x4078484A#32
  | 50 => 0xBE167F56#32
  | 51 => 0x40C7CC91#32
  | 52 => 0x3F01F34F#32
  | 53 => 0x3EAD0165#32
  | 54 => 0x3F40CED3#32
  | 55 => 0x3F82BADC#32
  | 56 => 0x40221511#32
  | 57 => 0x3F482A15#32
  | 58 => 0x3F8BE03A#32
  | 59 => 0x3F8E20B7#32
  | 60 => 0x3ECE2048#32
  | 61 => 0xBE1D3EA4#32
  | 62 => 0x3F915D7C#32
  | 63 => 0x40650A93#32
  | 64 => 0x3F9A1FEF#32
  | 65 => 0x3E1A26B4#32
  | 66 => 0x3F5223A5#32
  | 67 => 0xBF859C0E#32
  | 68 => 0xBF50E485#32
  | 69 => 0x3F6C48D0#32
  | 70 => 0x402F7249#32
  | 71 => 0xBD1EB19F#32
  | 72 => 0x3FB19F73#32
  | 73 => 0xBF1DA680#32
  | 74 => 0x3F28DAB4#32
  | 75 => 0xBE71C8BC#32
  | 76 => 0x3F5AC409#32
  | 77 => 0xBF01AF24#32
  | 78 => 0x3F8D30AC#32
  | 79 => 0x3F069512#32
  | 80 => 0x3E8E98B3#32
  | 81 => 0x3E8824D9#32
  | 82 => 0xBEEC541A#32
  | 83 => 0x3F35346C#32
  | 84 => 0xBE9A89DD#32
  | 85 => 0xBFC8FD30#32
  | 86 => 0xBE8A4606#32
  | 87 => 0x3F460048#32
  | 88 => 0x3F28C3EC#32
  | 89 => 0x407A40AE#32
  | 90 => 0x3F02433B#32
  | 91 => 0x3FEC2F22#32
  | 92 => 0x3F407B44#32
  | 93 => 0xBF41DE80#32
  | 94 => 0xBF462CF0#32
  | 95 => 0x402E2ED5#32
  | 96 => 0x3FB75CB7#32
  | 97 => 0xBF2AA8DD#32
  | 98 => 0x3FF42CAE#32
  | 99 => 0xBF3E7AE2#32
  | 100 => 0x3F897A28#32
  | 101 => 0xBF815450#32
  | 102 => 0x40690AC9#32
  | 103 => 0x3FDD54B2#32
  | 104 => 0xBF7BFE28#32
  | 105 => 0x40952272#32
  | 106 => 0x3EE16C58#32
  | 107 => 0xBD9709F0#32
  | 108 => 0xBD53829A#32
  | 109 => 0xBE9868CD#32
  | 110 => 0x3FE10CDF#32
  | 111 => 0xBEFDAE41#32
  | 112 => 0x3FA5B406#32
  | 113 => 0x3D4BFAEE#32
  | 114 => 0xBF965781#32
  | 115 => 0x3F05EC3E#32
  | 116 => 0x3F5AABFB#32
  | 117 => 0xBDC1014C#32
  | 118 => 0x4097CDE6#32
  | 119 => 0xBFA4BD9F#32
  | 120 => 0x3F877CE6#32
  | 121 => 0xBF0312DE#32
  | 122 => 0xBE87ADF4#32
  | 123 => 0xBF885BA6#32
  | 124 => 0xBEC43070#32
  | 125 => 0xBDDF30DE#32
  | 126 => 0xBE4BD147#32
  | 127 => 0x3EA199DA#32
  | _ => 0#32

noncomputable abbrev lit0t0_144 (i : Nat) : BitVec 32 := match i % 128 with
  | 0 => 0x3F80432D#32
  | 1 => 0xBF3ED97A#32
  | 2 => 0x3F6F8756#32
  | 3 => 0x40734891#32
  | 4 => 0xBE9C13A6#32
  | 5 => 0xBF510D62#32
  | 6 => 0x3F3F9C40#32
  | 7 => 0x40372C41#32
  | 8 => 0xBE7D5346#32
  | 9 => 0x400CB3A5#32
  | 10 => 0xBDFBB953#32
  | 11 => 0x3D9B4DD9#32
  | 12 => 0x3DB45B8A#32
  | 13 => 0x40430E4F#32
  | 14 => 0x3F42E058#32
  | 15 => 0xBFBBD25C#32
  | 16 => 0x3FD26F04#32
  | 17 => 0xBD260FF7#32
  | 18 => 0x3E6FD498#32
  | 19 => 0xBE320D79#32
  | 20 => 0x402CD4FB#32
  | 21 => 0x3F782120#32
  | 22 => 0x3EFCBB28#32
  | 23 => 0x3E7CC6BF#32
  | 24 => 0x3F05AD0B#32
  | 25 => 0x3F579B1B#32
  | 26 => 0x3FC8F803#32
  | 27 => 0x3F2635F7#32
  | 28 => 0x40415F0E#32
  | 29 => 0xBF6D1837#32
  | 30 => 0xBF2AA050#32
  | 31 => 0x403E6032#32
  | 32 => 0x4016B1B4#32
  | 33 => 0xBEECAC90#32
  | 34 => 0x3EEE85AA#32
  | 35 => 0xBEFC57E2#32
  | 36 => 0xBEF9895C#32
  | 37 => 0xBF952EDF#32
  | 38 => 0xBE88F9DA#32
  | 39 => 0x3EC6812C#32
  | 40 => 0xBEBAE109#32
  | 41 => 0x3D8E089B#32
  | 42 => 0x3F8BA8A0#32
  | 43 => 0x400999A4#32
  | 44 => 0x400D2A8D#32
  | 45 => 0x3FCBB710#32
  | 46 => 0x3E548AAF#32
  | 47 => 0x3FA0A7E1#32
  | 48 => 0x3F5FBD3A#32
  | 49 => 0x3F9256A9#32
  | 50 => 0x3EC110FA#32
  | 51 => 0xBF1912FE#32
  | 52 => 0x3F625AEA#32
  | 53 => 0x3DB6132D#32
  | 54 => 0x3F850B44#32
  | 55 => 0x3FDE1274#32
  | 56 => 0xBD5E0707#32
  | 57 => 0xBF008210#32
  | 58 => 0x3F7645BD#32
  | 59 => 0x402C1600#32
  | 60 => 0x3FBAC9EF#32
  | 61 => 0x3EF55AC0#32
  | 62 => 0x3F441D16#32
  | 63 => 0xBDDC19C9#32
  | 64 => 0x3EDE821D#32
  | 65 => 0x3CCB335D#32
  | 66 => 0x3FB82185#32
  | 67 => 0x3F43EE47#32
  | 68 => 0xBF31C5F4#32
  | 69 => 0x3F006E7B#32
  | 70 => 0x40120FDE#32
  | 71 => 0xBEAFCEAF#32
  | 72 => 0xBF2449A0#32
  | 73 => 0x3E79711B#32
  | 74 => 0x3E5617E0#32
  | 75 => 0xBEFB9EB9#32
  | 76 => 0x3F09DC31#32
  | 77 => 0x3F87704D#32
  | 78 => 0x3F57525C#32
  | 79 => 0xBF9FE20D#32
  | 80 => 0x40111CAF#32
  | 81 => 0xBF3D57ED#32
  | 82 => 0xBE9110A6#32
  | 83 => 0x405BFC44#32
  | 84 => 0x3DC1831E#32
  | 85 => 0xBF37CD4F#32
  | 86 => 0xBE49BF84#32
  | 87 => 0xBF1C43BF#32
  | 88 => 0x3EF9F742#32
  | 89 => 0x3F36789C#32
  | 90 => 0x3EEB91A8#32
  | 91 => 0x40142555#32
  | 92 => 0xBF302341#32
  | 93 => 0xBF56902C#32
  | 94 => 0xBF1B7435#32
  | 95 => 0xBE52C325#32
  | 96 => 0x3CB22BF1#32
  | 97 => 0xBE07E5F2#32
  | 98 => 0x3EE2C132#32
  | 99 => 0x3E5E1F73#32
  | 100 => 0xBEF2E182#32
  | 101 => 0xBED304BC#32
  | 102 => 0xBF34393B#32
  | 103 => 0xBF9F10A1#32
  | 104 => 0x3F0DCCCA#32
  | 105 => 0x3EC99861#32
  | 106 => 0x3FA67DA2#32
  | 107 => 0x3E0A5D37#32
  | 108 => 0x3F98FABE#32
  | 109 => 0x4022CD10#32
  | 110 => 0x3EDEB243#32
  | 111 => 0x3E07B440#32
  | 112 => 0xBF0726E9#32
  | 113 => 0x3F5D0BDE#32
  | 114 => 0xBF8F512E#32
  | 115 => 0xBF794722#32
  | 116 => 0x3F240AC1#32
  | 117 => 0xBE885630#32
  | 118 => 0xBF96109A#32
  | 119 => 0x3F52CF76#32
  | 120 => 0x3FE669AE#32
  | 121 => 0x3F99BBC7#32
  | 122 => 0x402C446B#32
  | 123 => 0x3DB24934#32
  | 124 => 0x3EEEE0AC#32
  | 125 => 0x3F0775EE#32
  | 126 => 0xBBF27CBF#32
  | 127 => 0x3E997F0D#32
  | _ => 0#32

noncomputable abbrev lit0t0_145 (i : Nat) : BitVec 32 := match i % 128 with
  | 0 => 0x408479DE#32
  | 1 => 0x408AC60C#32
  | 2 => 0xBE7B5610#32
  | 3 => 0xBF409C37#32
  | 4 => 0x40954D61#32
  | 5 => 0x3C715EEE#32
  | 6 => 0x3FA35B4F#32
  | 7 => 0x3E66BAFD#32
  | 8 => 0xBE84F7F5#32
  | 9 => 0xBF73222E#32
  | 10 => 0x405130D1#32
  | 11 => 0x3DBFF6F0#32
  | 12 => 0xBEB7EC41#32
  | 13 => 0xBF86CFCC#32
  | 14 => 0xBE50BF71#32
  | 15 => 0x405A567D#32
  | 16 => 0x3F492940#32
  | 17 => 0x3FA7FA4D#32
  | 18 => 0x3F9608A3#32
  | 19 => 0xBEEF6D5D#32
  | 20 => 0xBF6379BA#32
  | 21 => 0xBC99B254#32
  | 22 => 0x3F18003B#32
  | 23 => 0xBE66FEB7#32
  | 24 => 0xBF1F573A#32
  | 25 => 0xBEC802FF#32
  | 26 => 0xBF8DC166#32
  | 27 => 0x3E55BE26#32
  | 28 => 0xBEBA9737#32
  | 29 => 0x3F31E4DC#32
  | 30 => 0x400CEB9E#32
  | 31 => 0xBE399BB8#32
  | 32 => 0x402E4CED#32
  | 33 => 0xBE87E729#32
  | 34 => 0x401F2544#32
  | 35 => 0xBF48AD69#32
  | 36 => 0xBFA4D5B2#32
  | 37 => 0x3F498CE6#32
  | 38 => 0xBFE7FD7C#32
  | 39 => 0x3D7AECB7#32
  | 40 => 0xBF3367A3#32
  | 41 => 0xBF3F0B94#32
  | 42 => 0xBF496C94#32
  | 43 => 0x3FA5B221#32
  | 44 => 0x400B8D77#32
  | 45 => 0x3FAEB757#32
  | 46 => 0x3EA14597#32
  | 47 => 0x3E2FD28D#32
  | 48 => 0x3F9F355B#32
  | 49 => 0x401C5854#32
  | 50 => 0x3F19E6BD#32
  | 51 => 0xBACFD5CB#32
  | 52 => 0x3F3BCEE1#32
  | 53 => 0x3F0F7828#32
  | 54 => 0xBE476B97#32
  | 55 => 0x3DB4EA9F#32
  | 56 => 0x3F803311#32
  | 57 => 0xBF69DCA8#32
  | 58 => 0x3F5F4ABC#32
  | 59 => 0xBF9839C0#32
  | 60 => 0x3E00C1AB#32
  | 61 => 0x3F34C1A8#32
  | 62 => 0x3E7C2685#32
  | 63 => 0x3D983F34#32
  | 64 => 0xBDC13E62#32
  | 65 => 0xBF17D5E9#32
  | 66 => 0xBEF4047E#32
  | 67 => 0x408AB6DB#32
  | 68 => 0xBF28C8DC#32
  | 69 => 0x40191586#32
  | 70 => 0x3DD39FA9#32
  | 71 => 0x3F34E3AE#32
  | 72 => 0x3F664EEC#32
  | 73 => 0x3F7867A2#32
  | 74 => 0xBDBACEC3#32
  | 75 => 0x3F36F4EE#32
  | 76 => 0x3EF8C762#32
  | 77 => 0x403BD29C#32
  | 78 => 0xBDC8955F#32
  | 79 => 0xBD5D2516#32
  | 80 => 0x3FEEE6BA#32
  | 81 => 0xBEBB6EEF#32
  | 82 => 0x3FFE9E33#32
  | 83 => 0x4007CAC5#32
  | 84 => 0x3ECC6F2B#32
  | 85 => 0x3F8E45B8#32
  | 86 => 0xBFA800D4#32
  | 87 => 0x3DE6CCEF#32
  | 88 => 0xBF0BCB67#32
  | 89 => 0x3F2DE22C#32
  | 90 => 0xBD825EC2#32
  | 91 => 0x3F49308C#32
  | 92 => 0x3FE9D21D#32
  | 93 => 0xBF7AB1F2#32
  | 94 => 0x3FCDDC6D#32
  | 95 => 0x3F8BB270#32
  | 96 => 0x3F7EB344#32
  | 97 => 0x3F6CDFD6#32
  | 98 => 0x3F7562B5#32
  | 99 => 0x3EBCD5C2#32
  | 100 => 0xBE3446F6#32
  | 101 => 0xBEAC4ACF#32
  | 102 => 0x4086321D#32
  | 103 => 0xBF9AA8C2#32
  | 104 => 0xBFA28991#32
  | 105 => 0x3FF4E9E6#32
  | 106 => 0xBEA851A0#32
  | 107 => 0x3F6296FE#32
  | 108 => 0xBF8740CE#32
  | 109 => 0xBEFE257F#32
  | 110 => 0x401985C8#32
  | 111 => 0x40744708#32
  | 112 => 0x3FD1DF89#32
  | 113 => 0x3FAF718F#32
  | 114 => 0x3FB99E2F#32
  | 115 => 0xBF0E6270#32
  | 116 => 0xBE5F2CCE#32
  | 117 => 0x3F5B692F#32
  | 118 => 0xBE8DC3A0#32
  | 119 => 0x3F728B62#32
  | 120 => 0x403DFD39#32
  | 121 => 0x3F9A021D#32
  | 122 => 0x3F715AE6#32
  | 123 => 0x3DC6E656#32
  | 124 => 0x3F93C629#32
  | 125 => 0xBD4FFDEE#32
  | 126 => 0xBF927ECA#32
  | 127 => 0x3FB4DC2B#32
  | _ => 0#32

noncomputable abbrev lit0t0_146 (i : Nat) : BitVec 32 := match i % 128 with
  | 0 => 0xBDD9845D#32
  | 1 => 0xBFB655BE#32
  | 2 => 0x3F0C2631#32
  | 3 => 0x3FA5B834#32
  | 4 => 0x407FC388#32
  | 5 => 0x3F20A5AC#32
  | 6 => 0xBD87B105#32
  | 7 => 0x3FBF1145#32
  | 8 => 0xBFB4839A#32
  | 9 => 0x3E84D4D1#32
  | 10 => 0x3F0C69AC#32
  | 11 => 0x3ECEF2F2#32
  | 12 => 0xBF97EC9C#32
  | 13 => 0x40059125#32
  | 14 => 0x3FA86AF0#32
  | 15 => 0x3F490D74#32
  | 16 => 0xBF3EB002#32
  | 17 => 0xBE7AEA9E#32
  | 18 => 0xBE459A49#32
  | 19 => 0x3D9F1856#32
  | 20 => 0xBEA3C027#32
  | 21 => 0x3F68B44A#32
  | 22 => 0xBE9C9FB1#32
  | 23 => 0x3EE4EF76#32
  | 24 => 0x4035D788#32
  | 25 => 0xBF16CE4C#32
  | 26 => 0x3FADA879#32
  | 27 => 0xBE682666#32
  | 28 => 0xBF6A6EF0#32
  | 29 => 0x3F36DE83#32
  | 30 => 0xBECDC1D1#32
  | 31 => 0xBF062EE9#32
  | 32 => 0xBF8F2113#32
  | 33 => 0x3F90F99F#32
  | 34 => 0xBF5BE817#32
  | 35 => 0xBEF179AC#32
  | 36 => 0x3EFA3EFF#32
  | 37 => 0x3FE80AF7#32
  | 38 => 0x3E4FECF2#32
  | 39 => 0xBF31AFF8#32
  | 40 => 0x3B976C6D#32
  | 41 => 0xBF56FA60#32
  | 42 => 0xBF9229F5#32
  | 43 => 0xBF316FDC#32
  | 44 => 0x3ED74C07#32
  | 45 => 0x3F0C3782#32
  | 46 => 0x3DA6D469#32
  | 47 => 0x3EA79568#32
  | 48 => 0x3F59E298#32
  | 49 => 0x3E1C61E5#32
  | 50 => 0x4008144E#32
  | 51 => 0x3FD309C2#32
  | 52 => 0x3D1D41E4#32
  | 53 => 0xBE6DC550#32
  | 54 => 0x3F9E98EC#32
  | 55 => 0x3E239723#32
  | 56 => 0xBF053701#32
  | 57 => 0x3E1C22F0#32
  | 58 => 0x3DA06F31#32
  | 59 => 0x3E9CA565#32
  | 60 => 0xBE1D31AB#32
  | 61 => 0x3DEB27BF#32
  | 62 => 0xBEC91BE9#32
  | 63 => 0x3C771183#32
  | 64 => 0xBF66BF61#32
  | 65 => 0x3FADB236#32
  | 66 => 0xBF9C43AC#32
  | 67 => 0xBEE90280#32
  | 68 => 0x3DC684DB#32
  | 69 => 0x3FA5A3F5#32
  | 70 => 0x3F9A9EA2#32
  | 71 => 0x40220199#32
  | 72 => 0x3FA924B1#32
  | 73 => 0x3FEACEC0#32
  | 74 => 0x3F431E29#32
  | 75 => 0x3F9A53F5#32
  | 76 => 0xBEA8FD09#32
  | 77 => 0xBE464711#32
  | 78 => 0x3F0AC766#32
  | 79 => 0xBEBC50D9#32
  | 80 => 0x404BE9F9#32
  | 81 => 0xBE77B99F#32
  | 82 => 0x3F99EAB9#32
  | 83 => 0xBF557345#32
  | 84 => 0x3F1EAAA0#32
  | 85 => 0xBE2A53D3#32
  | 86 => 0x3EA5B168#32
  | 87 => 0xBBC8AB61#32
  | 88 => 0x40A2029C#32
  | 89 => 0x400D2CAC#32
  | 90 => 0x3F8A7E01#32
  | 91 => 0xBE17FD5F#32
  | 92 => 0xBECF1BC8#32
  | 93 => 0x40824514#32
  | 94 => 0x405358FF#32
  | 95 => 0x3E28B837#32
  | 96 => 0x3F1FF1D2#32
  | 97 => 0xBF771E1E#32
  | 98 => 0xBE88A3EA#32
  | 99 => 0x3B4C3F65#32
  | 100 => 0x3F63291B#32
  | 101 => 0xBF583863#32
  | 102 => 0xBEBE5695#32
  | 103 => 0xBEB4FA07#32
  | 104 => 0x3F00A50C#32
  | 105 => 0xBE50F4F6#32
  | 106 => 0x3FD76B1D#32
  | 107 => 0xBF89546E#32
  | 108 => 0x3FA40A4A#32
  | 109 => 0x3F1FC233#32
  | 110 => 0x3EBA8DC2#32
  | 111 => 0xBFB58477#32
  | 112 => 0x3D964BC5#32
  | 113 => 0x3FEA032E#32
  | 114 => 0x3F405AF6#32
  | 115 => 0xBCE5CC1F#32
  | 116 => 0xBEEF8FC2#32
  | 117 => 0x3DE7CB76#32
  | 118 => 0xBFC05E4F#32
  | 119 => 0x3FF750A3#32
  | 120 => 0x3EC5F323#32
  | 121 => 0xBFD382D1#32
  | 122 => 0xBFA721C0#32
  | 123 => 0xBF0B9656#32
  | 124 => 0x3F87BAA8#32
  | 125 => 0xBDD57340#32
  | 126 => 0x3F53635F#32
  | 127 => 0x3F576A2E#32
  | _ => 0#32

noncomputable abbrev lit0t0_147 (i : Nat) : BitVec 32 := match i % 128 with
  | 0 => 0x3F10A96C#32
  | 1 => 0x3E16996C#32
  | 2 => 0x3E7BDBA8#32
  | 3 => 0x3FD72BDA#32
  | 4 => 0xBF2C8166#32
  | 5 => 0x3FB57E2F#32
  | 6 => 0x3E4316A0#32
  | 7 => 0x403EFB9D#32
  | 8 => 0x3FDB60B1#32
  | 9 => 0xBF2FAFAF#32
  | 10 => 0x3E242259#32
  | 11 => 0x3E91BC59#32
  | 12 => 0x3EDD626D#32
  | 13 => 0x3E2D35C1#32
  | 14 => 0xBF350688#32
  | 15 => 0x3FAA045E#32
  | 16 => 0x4011D6FC#32
  | 17 => 0xBD9DC7F5#32
  | 18 => 0xBE820431#32
  | 19 => 0xBF312C19#32
  | 20 => 0xBEE26367#32
  | 21 => 0x3F2DFBD5#32
  | 22 => 0xBEF62500#32
  | 23 => 0xBF8EA9BB#32
  | 24 => 0x3FB34C50#32
  | 25 => 0xBF24EB85#32
  | 26 => 0x3EB7FE0C#32
  | 27 => 0x3FDA4AAC#32
  | 28 => 0x4053F30D#32
  | 29 => 0xBF09DB8A#32
  | 30 => 0xBF8F0FCE#32
  | 31 => 0xBF08C265#32
  | 32 => 0xBE3950C2#32
  | 33 => 0x3FE2E8AC#32
  | 34 => 0x4093CCAD#32
  | 35 => 0xBEB85D4E#32
  | 36 => 0x3DA9FA7A#32
  | 37 => 0xBDE2A60D#32
  | 38 => 0xBFA885A2#32
  | 39 => 0xBC22FC47#32
  | 40 => 0xBEF6C914#32
  | 41 => 0x3F648ADC#32
  | 42 => 0x401E5822#32
  | 43 => 0x3E6A30ED#32
  | 44 => 0x3F820E85#32
  | 45 => 0xBFB4BCB7#32
  | 46 => 0xBF74CB06#32
  | 47 => 0xBD08972F#32
  | 48 => 0x3FB88010#32
  | 49 => 0xBF817140#32
  | 50 => 0xBF89AE10#32
  | 51 => 0x400469CF#32
  | 52 => 0xBF19E0BF#32
  | 53 => 0xBC814C27#32
  | 54 => 0xBE5D7808#32
  | 55 => 0x3FD765B8#32
  | 56 => 0x4043CA6D#32
  | 57 => 0x40011531#32
  | 58 => 0x3F1F4C69#32
  | 59 => 0x3E98E424#32
  | 60 => 0x3F66FA47#32
  | 61 => 0x3F550F4C#32
  | 62 => 0x3F2B8E04#32
  | 63 => 0xBDA48024#32
  | 64 => 0xBD8FCF23#32
  | 65 => 0x3E815CA8#32
  | 66 => 0x4066B508#32
  | 67 => 0xBFD5EF4C#32
  | 68 => 0xBF1471FA#32
  | 69 => 0x3F531F8E#32
  | 70 => 0x3FEDFF20#32
  | 71 => 0x3FA9712E#32
  | 72 => 0x3DE150EA#32
  | 73 => 0x3F9979E8#32
  | 74 => 0x3FBDF8DA#32
  | 75 => 0x3EAA068D#32
  | 76 => 0xBF1E08FF#32
  | 77 => 0x3DC52D59#32
  | 78 => 0xBE1D1B0B#32
  | 79 => 0xBF1EA040#32
  | 80 => 0x3FDB9790#32
  | 81 => 0x3F2466AB#32
  | 82 => 0x3DFFDA4B#32
  | 83 => 0x3EF6FA1E#32
  | 84 => 0x3ED76277#32
  | 85 => 0x3F227F35#32
  | 86 => 0x3E90F737#32
  | 87 => 0x3E5124D5#32
  | 88 => 0x3FDCD57F#32
  | 89 => 0x3DDA52DA#32
  | 90 => 0xBF8928F8#32
  | 91 => 0x3FB7121C#32
  | 92 => 0x3F199A27#32
  | 93 => 0x3F619660#32
  | 94 => 0x40843CF8#32
  | 95 => 0x3FB5403D#32
  | 96 => 0x3E9770F3#32
  | 97 => 0x40630954#32
  | 98 => 0x3E5CD906#32
  | 99 => 0x3EAE2D5C#32
  | 100 => 0x3C963F95#32
  | 101 => 0x402565CA#32
  | 102 => 0x3EFB692B#32
  | 103 => 0x400D3283#32
  | 104 => 0x3FE92831#32
  | 105 => 0x3FF2788A#32
  | 106 => 0x3E38EC02#32
  | 107 => 0xBFAE3EB3#32
  | 108 => 0xBFE1CB16#32
  | 109 => 0x400C3056#32
  | 110 => 0x3FCBB069#32
  | 111 => 0xBFCF7245#32
  | 112 => 0x3F6CA222#32
  | 113 => 0x4036A3DE#32
  | 114 => 0x3FA0B94E#32
  | 115 => 0x3F4CA056#32
  | 116 => 0x40055CF1#32
  | 117 => 0xBEEB6A5C#32
  | 118 => 0x3D2CDE9F#32
  | 119 => 0x3F0128B8#32
  | 120 => 0x3F12F433#32
  | 121 => 0xBF8FBEA9#32
  | 122 => 0x3F379FC2#32
  | 123 => 0xBE6B1FE5#32
  | 124 => 0x3FA79AB1#32
  | 125 => 0x3EAD9FE5#32
  | 126 => 0x3FBCCA82#32
  | 127 => 0x3EFFF3B6#32
  | _ => 0#32

noncomputable abbrev lit0t0_148 (i : Nat) : BitVec 32 := match i % 128 with
  | 0 => 0xBEF5A323#32
  | 1 => 0xBEE15C87#32
  | 2 => 0xBE100695#32
  | 3 => 0x409FE08B#32
  | 4 => 0xBF57F817#32
  | 5 => 0xBECF58D1#32
  | 6 => 0xBE8D277E#32
  | 7 => 0x3E919775#32
  | 8 => 0x3E2F755D#32
  | 9 => 0x3F9DF2E5#32
  | 10 => 0xBEFA74FC#32
  | 11 => 0x3F281F17#32
  | 12 => 0xBF8F5BD4#32
  | 13 => 0x3F6540A7#32
  | 14 => 0xBF53754D#32
  | 15 => 0x3F095EEF#32
  | 16 => 0x3F3FAC86#32
  | 17 => 0xBF8B0F4C#32
  | 18 => 0xBEF9EB74#32
  | 19 => 0xBF0935B1#32
  | 20 => 0x3EA7C099#32
  | 21 => 0xBDE73269#32
  | 22 => 0x3F6D4A52#32
  | 23 => 0x3EDEFBD2#32
  | 24 => 0x404F0C32#32
  | 25 => 0xBFBBEE3E#32
  | 26 => 0xBF08370F#32
  | 27 => 0x40295D60#32
  | 28 => 0x3ED66040#32
  | 29 => 0xBF4BFA6A#32
  | 30 => 0x3F002E91#32
  | 31 => 0x3FA307B8#32
  | 32 => 0xBF218527#32
  | 33 => 0xBEC774EF#32
  | 34 => 0x3F22D4A8#32
  | 35 => 0x3F602E30#32
  | 36 => 0x3F9F131C#32
  | 37 => 0x3DD2A9EF#32
  | 38 => 0x402F85E8#32
  | 39 => 0xBF104CAC#32
  | 40 => 0xBEC4E770#32
  | 41 => 0xBE8B561B#32
  | 42 => 0x3ECDC8E8#32
  | 43 => 0x3FFDE8A2#32
  | 44 => 0x3E49C606#32
  | 45 => 0x3DA0F104#32
  | 46 => 0xBF932761#32
  | 47 => 0x3EC9EDB2#32
  | 48 => 0x3FD6620A#32
  | 49 => 0xBD283A41#32
  | 50 => 0x3EBB7B17#32
  | 51 => 0xBEEE5062#32
  | 52 => 0x3EBBE5CE#32
  | 53 => 0x3F678750#32
  | 54 => 0xBEBDC5A0#32
  | 55 => 0xBF836851#32
  | 56 => 0xBD4D304D#32
  | 57 => 0x3ECE4882#32
  | 58 => 0xBF32D893#32
  | 59 => 0xBF0D9DBC#32
  | 60 => 0xBF3B5D30#32
  | 61 => 0x3F944C82#32
  | 62 => 0xBFD5E51A#32
  | 63 => 0xBEF42B10#32
  | 64 => 0x3E197D38#32
  | 65 => 0x3FF4BF8E#32
  | 66 => 0xBF572E4C#32
  | 67 => 0xBE56AB58#32
  | 68 => 0xC0090318#32
  | 69 => 0xBF8F80AA#32
  | 70 => 0xBF417016#32
  | 71 => 0x3FCCC537#32
  | 72 => 0x3E9F54C0#32
  | 73 => 0x40187915#32
  | 74 => 0xBEAECD15#32
  | 75 => 0x3FA2F4DE#32
  | 76 => 0x3F542615#32
  | 77 => 0x3C53378B#32
  | 78 => 0x3FA74E5C#32
  | 79 => 0x3F66EA19#32
  | 80 => 0x3FF4126F#32
  | 81 => 0x3DE310A4#32
  | 82 => 0x40445BDE#32
  | 83 => 0x3FA23AC8#32
  | 84 => 0x3FA6686F#32
  | 85 => 0x405A7111#32
  | 86 => 0x3FD3518B#32
  | 87 => 0x3EA5FECC#32
  | 88 => 0xBF06E156#32
  | 89 => 0xBF78E65C#32
  | 90 => 0x3ED4FDA6#32
  | 91 => 0xBE19F29D#32
  | 92 => 0xBF155ABC#32
  | 93 => 0x3F85DCB4#32
  | 94 => 0xBEF9B127#32
  | 95 => 0x40034736#32
  | 96 => 0x4024404A#32
  | 97 => 0x3D8068ED#32
  | 98 => 0x4013EE7C#32
  | 99 => 0xBDAEF9AC#32
  | 100 => 0x3F08CE98#32
  | 101 => 0x3F3CB091#32
  | 102 => 0xBEE232F4#32
  | 103 => 0x3F68145B#32
  | 104 => 0x3D26BACB#32
  | 105 => 0x3E75CC15#32
  | 106 => 0xBE681A12#32
  | 107 => 0x3D6A4031#32
  | 108 => 0x3F8DE0B8#32
  | 109 => 0x40261A0A#32
  | 110 => 0x400B5B95#32
  | 111 => 0x3F51ED68#32
  | 112 => 0x3F83FA0E#32
  | 113 => 0x408C122E#32
  | 114 => 0xBE344062#32
  | 115 => 0xBED4FB77#32
  | 116 => 0x404F6489#32
  | 117 => 0x40141C36#32
  | 118 => 0x3F8F179C#32
  | 119 => 0xBF94FCF5#32
  | 120 => 0xBF7F0992#32
  | 121 => 0xBFA5E876#32
  | 122 => 0x3EC641EA#32
  | 123 => 0x3F6DD8EF#32
  | 124 => 0x4018164A#32
  | 125 => 0x4037513E#32
  | 126 => 0x3F948471#32
  | 127 => 0x3F0EC506#32
  | _ => 0#32

noncomputable abbrev lit0t0_149 (i : Nat) : BitVec 32 := match i % 128 with
  | 0 => 0xBF22BD4C#32
  | 1 => 0x3FA06E2F#32
  | 2 => 0xBF7F2C56#32
  | 3 => 0xBD2825BD#32
  | 4 => 0xBFB7A1CA#32
  | 5 => 0x3F467A41#32
  | 6 => 0xBEF07C1E#32
  | 7 => 0x3EA9B7F7#32
  | 8 => 0x3F143223#32
  | 9 => 0xBF5B40D0#32
  | 10 => 0xBFAA348F#32
  | 11 => 0x3F347C6A#32
  | 12 => 0x3F868DDB#32
  | 13 => 0xBEB2B0B0#32
  | 14 => 0x3F755818#32
  | 15 => 0x3F513657#32
  | 16 => 0x3FC1490A#32
  | 17 => 0x3C8BFBF2#32
  | 18 => 0xBF03E6EA#32
  | 19 => 0xBE75DF73#32
  | 20 => 0xBE9392C7#32
  | 21 => 0x4076C051#32
  | 22 => 0x3E030CC1#32
  | 23 => 0x3F4B0838#32
  | 24 => 0x3FF99DF7#32
  | 25 => 0xBFC28E98#32
  | 26 => 0x3FEAF39D#32
  | 27 => 0x3F7701C0#32
  | 28 => 0xBEBEBE6E#32
  | 29 => 0xBF4E5FDE#32
  | 30 => 0xBF3594E1#32
  | 31 => 0x3F171DCD#32
  | 32 => 0x3EC59E66#32
  | 33 => 0x3F8519BD#32
  | 34 => 0x3EB202A5#32
  | 35 => 0x3ED7C9F3#32
  | 36 => 0x3E7D29E7#32
  | 37 => 0xBEC43913#32
  | 38 => 0x3F7ABB4C#32
  | 39 => 0x3F554086#32
  | 40 => 0x3F496080#32
  | 41 => 0x3F0CB12C#32
  | 42 => 0x3E880602#32
  | 43 => 0x3E9E7F30#32
  | 44 => 0x3F613E25#32
  | 45 => 0x3FAEA11C#32
  | 46 => 0x3D009F5F#32
  | 47 => 0x3F80C680#32
  | 48 => 0xBED29F40#32
  | 49 => 0xBD9E7415#32
  | 50 => 0xBE5968EE#32
  | 51 => 0x3FCFDB2F#32
  | 52 => 0xBE2D8A90#32
  | 53 => 0x3F0EE3A0#32
  | 54 => 0x4002C3CC#32
  | 55 => 0x402738FF#32
  | 56 => 0xBD0C679A#32
  | 57 => 0xBF1BEF95#32
  | 58 => 0x3DBCBAFC#32
  | 59 => 0x3EE44FB6#32
  | 60 => 0x407F4830#32
  | 61 => 0x40044C10#32
  | 62 => 0xBF90BA56#32
  | 63 => 0x3FF359F3#32
  | 64 => 0x3EC631CF#32
  | 65 => 0x3FB76253#32
  | 66 => 0x3FCC9340#32
  | 67 => 0x3E4E0779#32
  | 68 => 0xBF8A5065#32
  | 69 => 0x3EDE6E1C#32
  | 70 => 0x3FD977CA#32
  | 71 => 0xBDF1DE43#32
  | 72 => 0x3D1273D8#32
  | 73 => 0xBF1D5C27#32
  | 74 => 0xBE6A1004#32
  | 75 => 0x3F1DB363#32
  | 76 => 0x3F5C356A#32
  | 77 => 0x3F45F454#32
  | 78 => 0xBF2579FC#32
  | 79 => 0xBED26A9F#32
  | 80 => 0x3E853583#32
  | 81 => 0x3FCD0496#32
  | 82 => 0xBD3F2D60#32
  | 83 => 0x3FB204E4#32
  | 84 => 0x3EC42A08#32
  | 85 => 0xBF114E4F#32
  | 86 => 0x3DFD6D2D#32
  | 87 => 0xBCD170BA#32
  | 88 => 0xBEFAE0FC#32
  | 89 => 0xBEB892B2#32
  | 90 => 0xBE0F3A10#32
  | 91 => 0x3EAE8E9F#32
  | 92 => 0x3ED25888#32
  | 93 => 0xBF840696#32
  | 94 => 0x3F7C8988#32
  | 95 => 0x4021909A#32
  | 96 => 0x3F4CF3FD#32
  | 97 => 0x3F1B7141#32
  | 98 => 0x3E3DA81C#32
  | 99 => 0xBE56EFE8#32
  | 100 => 0x3EF377AF#32
  | 101 => 0xBFD4A47B#32
  | 102 => 0x4007F4DC#32
  | 103 => 0x3F8DEBCF#32
  | 104 => 0xBF0C896C#32
  | 105 => 0xBEB954C5#32
  | 106 => 0x3E88FBDE#32
  | 107 => 0x40025BE8#32
  | 108 => 0xBFA44C8D#32
  | 109 => 0x401E62FC#32
  | 110 => 0xBEEAC8A4#32
  | 111 => 0x3F10151A#32
  | 112 => 0x407B8280#32
  | 113 => 0x3E8BAED1#32
  | 114 => 0x3F9E9712#32
  | 115 => 0x3FE29BB4#32
  | 116 => 0xBD32A3D6#32
  | 117 => 0xBFC8D9D7#32
  | 118 => 0x3E351309#32
  | 119 => 0x3FDECDFD#32
  | 120 => 0x3E52C215#32
  | 121 => 0x3FAD7FF3#32
  | 122 => 0xBF35E137#32
  | 123 => 0xBE9DC53F#32
  | 124 => 0x3FEED556#32
  | 125 => 0xBE52D01F#32
  | 126 => 0x3F279DCA#32
  | 127 => 0x3F77F542#32
  | _ => 0#32

noncomputable abbrev lit0t0_150 (i : Nat) : BitVec 32 := match i % 128 with
  | 0 => 0x3F6B7D12#32
  | 1 => 0x406D564F#32
  | 2 => 0xBDDB0F51#32
  | 3 => 0x3F6D0CF7#32
  | 4 => 0xBF37528F#32
  | 5 => 0xBD2E1137#32
  | 6 => 0x3FE36150#32
  | 7 => 0x3F5A4218#32
  | 8 => 0x400D6B92#32
  | 9 => 0x40823D56#32
  | 10 => 0x3F30E817#32
  | 11 => 0x3EC0270F#32
  | 12 => 0x3D4CF14D#32
  | 13 => 0x4027787B#32
  | 14 => 0x3E391EBD#32
  | 15 => 0x3EFAB243#32
  | 16 => 0x3F44DB34#32
  | 17 => 0x3F348FD4#32
  | 18 => 0x3F854056#32
  | 19 => 0xBE712628#32
  | 20 => 0x3EECE444#32
  | 21 => 0xBFB0F239#32
  | 22 => 0x4054F991#32
  | 23 => 0x3FB57810#32
  | 24 => 0x3F00B76B#32
  | 25 => 0x3E80917A#32
  | 26 => 0xBEC58BB9#32
  | 27 => 0x3FA460B4#32
  | 28 => 0xBE43F7D3#32
  | 29 => 0xBD595D11#32
  | 30 => 0x409F6A7D#32
  | 31 => 0x3EBB47CA#32
  | 32 => 0x3E93D184#32
  | 33 => 0x3FC680E4#32
  | 34 => 0x3FC5F9B3#32
  | 35 => 0x40067059#32
  | 36 => 0xBF16BE0D#32
  | 37 => 0x3F675304#32
  | 38 => 0xBE5C151D#32
  | 39 => 0xBE96E095#32
  | 40 => 0x3E178F29#32
  | 41 => 0x3F9A0E15#32
  | 42 => 0x3F39CB1D#32
  | 43 => 0xBE9FF0A6#32
  | 44 => 0xBD998721#32
  | 45 => 0x3F80022E#32
  | 46 => 0x3F1B1683#32
  | 47 => 0xBFB60DBA#32
  | 48 => 0x3E44D48F#32
  | 49 => 0x3FA5EDE7#32
  | 50 => 0x3DB94E90#32
  | 51 => 0x3FB87BA7#32
  | 52 => 0xBE7AFD53#32
  | 53 => 0x3F80F4EA#32
  | 54 => 0xBE154502#32
  | 55 => 0x3ED875A4#32
  | 56 => 0xBFB6E163#32
  | 57 => 0xBF3106F9#32
  | 58 => 0x405F3664#32
  | 59 => 0x3EEB2DAB#32
  | 60 => 0x3FF05401#32
  | 61 => 0x3E882DB7#32
  | 62 => 0x3E93992F#32
  | 63 => 0x40041A93#32
  | 64 => 0xBDEE9FDE#32
  | 65 => 0xBF8080C9#32
  | 66 => 0xBEA49E23#32
  | 67 => 0x4096E29C#32
  | 68 => 0x3E731983#32
  | 69 => 0x3E1288E2#32
  | 70 => 0x400F2BAC#32
  | 71 => 0x408EF212#32
  | 72 => 0x3F93C21B#32
  | 73 => 0x403B449C#32
  | 74 => 0xBF4339C6#32
  | 75 => 0xBF9D7130#32
  | 76 => 0x404B3021#32
  | 77 => 0xBE645170#32
  | 78 => 0x3E984777#32
  | 79 => 0xBFD0EBCC#32
  | 80 => 0xBF8BA001#32
  | 81 => 0x3FA9A4D4#32
  | 82 => 0x3F912BB2#32
  | 83 => 0xBF8E4AAA#32
  | 84 => 0x3EBF76B2#32
  | 85 => 0x403452FE#32
  | 86 => 0x3D7E47EB#32
  | 87 => 0xBEFDE96D#32
  | 88 => 0xBF0C1167#32
  | 89 => 0x3F9DADDA#32
  | 90 => 0x3F24D8BC#32
  | 91 => 0xBF13ED5A#32
  | 92 => 0x3EB2EF3D#32
  | 93 => 0x4091ADD6#32
  | 94 => 0x401166E9#32
  | 95 => 0x3E6B5CE3#32
  | 96 => 0x3F7299D7#32
  | 97 => 0xBF916A4E#32
  | 98 => 0x408CF257#32
  | 99 => 0x40B17D6B#32
  | 100 => 0x3A9615FD#32
  | 101 => 0x3E3B9E14#32
  | 102 => 0x3FEA5FFA#32
  | 103 => 0x3F976452#32
  | 104 => 0x3FC5238A#32
  | 105 => 0x3F45EDF7#32
  | 106 => 0x3F6EE1D9#32
  | 107 => 0x3FD316FC#32
  | 108 => 0x3F3D5865#32
  | 109 => 0x3FCA9F4B#32
  | 110 => 0xBF717B78#32
  | 111 => 0x3FF05E08#32
  | 112 => 0xBED7D1F7#32
  | 113 => 0x4012A892#32
  | 114 => 0xBE7E8915#32
  | 115 => 0x3F894589#32
  | 116 => 0x3DDED152#32
  | 117 => 0xBEE1E0E1#32
  | 118 => 0xBF2F1ADE#32
  | 119 => 0xBE7BE7DC#32
  | 120 => 0xBF839A44#32
  | 121 => 0x40803FE7#32
  | 122 => 0xBF61C66A#32
  | 123 => 0xBFB985D7#32
  | 124 => 0x3E90C513#32
  | 125 => 0xBE627EEB#32
  | 126 => 0xBEC85773#32
  | 127 => 0x3FBAC6C0#32
  | _ => 0#32

noncomputable abbrev lit0t0_151 (i : Nat) : BitVec 32 := match i % 128 with
  | 0 => 0xBE38F1F4#32
  | 1 => 0x400464D0#32
  | 2 => 0x3F17D052#32
  | 3 => 0x4033656E#32
  | 4 => 0x3E146FEE#32
  | 5 => 0x3F02975C#32
  | 6 => 0xBEB75318#32
  | 7 => 0x4005F3BB#32
  | 8 => 0x3F8FE041#32
  | 9 => 0x3F9DC2B8#32
  | 10 => 0xBEACBAB5#32
  | 11 => 0xBE8F7561#32
  | 12 => 0x3F77DC9F#32
  | 13 => 0xBF70148E#32
  | 14 => 0x3E9CD2BC#32
  | 15 => 0x3F78C5C8#32
  | 16 => 0x3F272035#32
  | 17 => 0x3F09EC12#32
  | 18 => 0x3F4FA6B3#32
  | 19 => 0xBFD75A05#32
  | 20 => 0xBE21F911#32
  | 21 => 0xBF6CB89A#32
  | 22 => 0x3FC45246#32
  | 23 => 0xBCD67455#32
  | 24 => 0x4047F42A#32
  | 25 => 0xBF18ACD0#32
  | 26 => 0xBF069ABC#32
  | 27 => 0x3F373F13#32
  | 28 => 0xBED9F244#32
  | 29 => 0xBF89387B#32
  | 30 => 0x3E3CBCF9#32
  | 31 => 0x40898BDE#32
  | 32 => 0xBB2BD647#32
  | 33 => 0x3E1C6214#32
  | 34 => 0x401AA78D#32
  | 35 => 0x3FC1FDD0#32
  | 36 => 0x4025F475#32
  | 37 => 0xBEC6760B#32
  | 38 => 0x3F31B517#32
  | 39 => 0xBF7DADC0#32
  | 40 => 0xBDE50666#32
  | 41 => 0x3FF31574#32
  | 42 => 0x3F360B97#32
  | 43 => 0x3E270D64#32
  | 44 => 0x3EBCF49D#32
  | 45 => 0xBF88F225#32
  | 46 => 0xBF0B5CFC#32
  | 47 => 0x3F933B3B#32
  | 48 => 0xBEF3CDC6#32
  | 49 => 0xBD02EF40#32
  | 50 => 0x3D50D0A1#32
  | 51 => 0x3FD4347A#32
  | 52 => 0x3DFAC367#32
  | 53 => 0xBEEB5CCE#32
  | 54 => 0x3F303F82#32
  | 55 => 0x3F17F68C#32
  | 56 => 0x3F825DFE#32
  | 57 => 0x3F44BBE9#32
  | 58 => 0x3F6EA313#32
  | 59 => 0x3EFC7204#32
  | 60 => 0xBF16249E#32
  | 61 => 0x401CFF49#32
  | 62 => 0x3F33AE86#32
  | 63 => 0x40015888#32
  | 64 => 0x4008A450#32
  | 65 => 0x3FA2BE25#32
  | 66 => 0x3FF01E3D#32
  | 67 => 0x3EE1C810#32
  | 68 => 0xBBBC3163#32
  | 69 => 0x3F9CD425#32
  | 70 => 0x3E16F794#32
  | 71 => 0x3F333B7D#32
  | 72 => 0x401F1757#32
  | 73 => 0xBF465860#32
  | 74 => 0x3F0BE5C0#32
  | 75 => 0x3FB64D9C#32
  | 76 => 0x3F8B77C4#32
  | 77 => 0xBF0A371C#32
  | 78 => 0x3E59CF5E#32
  | 79 => 0xBFCDA894#32
  | 80 => 0xBF4CDD71#32
  | 81 => 0x3EAAE632#32
  | 82 => 0xBCD32EA2#32
  | 83 => 0x3C2E79BC#32
  | 84 => 0x3FCDA3A6#32
  | 85 => 0x3F29FBCF#32
  | 86 => 0x3F904A47#32
  | 87 => 0x3F329E17#32
  | 88 => 0x40C7038F#32
  | 89 => 0x3DC3072C#32
  | 90 => 0x405B72B1#32
  | 91 => 0x3E97BA96#32
  | 92 => 0x3F5CDDB1#32
  | 93 => 0x3F46291E#32
  | 94 => 0x4051533D#32
  | 95 => 0x3E969602#32
  | 96 => 0xBF934184#32
  | 97 => 0xBFC9B656#32
  | 98 => 0xBF0CF2C0#32
  | 99 => 0x404615BF#32
  | 100 => 0x3FC3ACD0#32
  | 101 => 0xBEE27CC6#32
  | 102 => 0x3FFAE39D#32
  | 103 => 0x3E03DC1C#32
  | 104 => 0xBF9C298C#32
  | 105 => 0xBDA747D8#32
  | 106 => 0xBF490AD2#32
  | 107 => 0x3F33ABE3#32
  | 108 => 0xBE59EBEE#32
  | 109 => 0xBCF07108#32
  | 110 => 0xBF820090#32
  | 111 => 0x3EE2BF29#32
  | 112 => 0x3EEA4212#32
  | 113 => 0x40063DF2#32
  | 114 => 0xBEF7A96F#32
  | 115 => 0x408ABD81#32
  | 116 => 0xBFCE185B#32
  | 117 => 0x3F14BAA4#32
  | 118 => 0x40684B3E#32
  | 119 => 0xBE6585AA#32
  | 120 => 0x401BE396#32
  | 121 => 0xBF16FCB3#32
  | 122 => 0xBD477B2B#32
  | 123 => 0x4033A277#32
  | 124 => 0x40801977#32
  | 125 => 0x40159456#32
  | 126 => 0xBF8028DF#32
  | 127 => 0x40342A44#32
  | _ => 0#32

noncomputable abbrev lit0t0_152 (i : Nat) : BitVec 32 := match i % 128 with
  | 0 => 0x3FBE488F#32
  | 1 => 0xBF059298#32
  | 2 => 0xBD0D937A#32
  | 3 => 0x3F894FCE#32
  | 4 => 0x40106B58#32
  | 5 => 0xBEBC3402#32
  | 6 => 0x4019FFBA#32
  | 7 => 0x3F703873#32
  | 8 => 0xBEF9B488#32
  | 9 => 0xBEC58089#32
  | 10 => 0xBF1E0806#32
  | 11 => 0xBE35A68F#32
  | 12 => 0x3FA5E68B#32
  | 13 => 0x405C7109#32
  | 14 => 0xBF772ADD#32
  | 15 => 0xBEB7A818#32
  | 16 => 0xBDC75723#32
  | 17 => 0x3E078EE6#32
  | 18 => 0x3F0024DB#32
  | 19 => 0x3F932656#32
  | 20 => 0xBF138288#32
  | 21 => 0x3FCA9796#32
  | 22 => 0x3FBC8B5A#32
  | 23 => 0x3FBB553F#32
  | 24 => 0xBE6D620C#32
  | 25 => 0x3F18BDE7#32
  | 26 => 0x3F3E34A2#32
  | 27 => 0x3EE777F2#32
  | 28 => 0x3FA4C37A#32
  | 29 => 0xBFC9CD72#32
  | 30 => 0x3FD786D7#32
  | 31 => 0x3E0296C2#32
  | 32 => 0x3FD3280E#32
  | 33 => 0x40893C6C#32
  | 34 => 0xBF54CFD7#32
  | 35 => 0xBF8D6076#32
  | 36 => 0x3FE46E2F#32
  | 37 => 0x3F837041#32
  | 38 => 0xBF999A87#32
  | 39 => 0x3E95FC7B#32
  | 40 => 0xBF0311A6#32
  | 41 => 0x3FB3CEB3#32
  | 42 => 0x3FDAA0E1#32
  | 43 => 0x3F35058F#32
  | 44 => 0x3E02A7A4#32
  | 45 => 0xBF71BEDD#32
  | 46 => 0x3FA18DC4#32
  | 47 => 0x3E0E8E85#32
  | 48 => 0xBBA725AE#32
  | 49 => 0x3EDCCD17#32
  | 50 => 0xBF073E6A#32
  | 51 => 0x3E9908D9#32
  | 52 => 0x3E99F91F#32
  | 53 => 0x3FB4D214#32
  | 54 => 0x3F8BB194#32
  | 55 => 0xBE9C3D04#32
  | 56 => 0xBE8C0C65#32
  | 57 => 0xBD9855CD#32
  | 58 => 0x3C22B86D#32
  | 59 => 0x3E997627#32
  | 60 => 0x3EA1462A#32
  | 61 => 0x3FE532F9#32
  | 62 => 0x3FA098E2#32
  | 63 => 0xBE79413A#32
  | 64 => 0x3F77B70A#32
  | 65 => 0xBF21191E#32
  | 66 => 0x3FFEE736#32
  | 67 => 0x3ED2C59F#32
  | 68 => 0x3F548658#32
  | 69 => 0x3F5607CB#32
  | 70 => 0xBF0A9F4A#32
  | 71 => 0x3E55E5AC#32
  | 72 => 0xBEE79318#32
  | 73 => 0x3FA63E3F#32
  | 74 => 0x3E7B41A9#32
  | 75 => 0x4038DA0F#32
  | 76 => 0x3E5168EB#32
  | 77 => 0x4091A165#32
  | 78 => 0x3F100211#32
  | 79 => 0xBFF16675#32
  | 80 => 0xBE9FD4D8#32
  | 81 => 0x3ED617AE#32
  | 82 => 0x3EC6D6F8#32
  | 83 => 0x40314BBF#32
  | 84 => 0x3F6759DF#32
  | 85 => 0x3F2052F6#32
  | 86 => 0xBF8B3D01#32
  | 87 => 0x3FE3D80E#32
  | 88 => 0xBF035EE7#32
  | 89 => 0x3FA58FE4#32
  | 90 => 0x3D07EF7E#32
  | 91 => 0x3FCD7EAD#32
  | 92 => 0xBEE2ECA0#32
  | 93 => 0xBE9FA131#32
  | 94 => 0xBE390DF1#32
  | 95 => 0x3F78D386#32
  | 96 => 0xBD459B22#32
  | 97 => 0x3FD86B2B#32
  | 98 => 0xBF876F35#32
  | 99 => 0xBF087D5E#32
  | 100 => 0x3EED6053#32
  | 101 => 0x3FABBB97#32
  | 102 => 0x3EA97452#32
  | 103 => 0xBED13195#32
  | 104 => 0x3E94514B#32
  | 105 => 0x401F9FCD#32
  | 106 => 0xBCD8ABF3#32
  | 107 => 0xBE3052D1#32
  | 108 => 0x3D707F6D#32
  | 109 => 0xBFB9B7B8#32
  | 110 => 0x3E1BDEAA#32
  | 111 => 0x4048BF3C#32
  | 112 => 0x3F46E456#32
  | 113 => 0xBF064654#32
  | 114 => 0x3F24AB80#32
  | 115 => 0x3D4E3A9C#32
  | 116 => 0xBD811BD1#32
  | 117 => 0x3FBDE3F9#32
  | 118 => 0x4071F40D#32
  | 119 => 0x3F8FA9C1#32
  | 120 => 0x402A9182#32
  | 121 => 0x3F71DE72#32
  | 122 => 0xBF8C8AA2#32
  | 123 => 0x3F531799#32
  | 124 => 0xBF0C0884#32
  | 125 => 0x3F4C11BE#32
  | 126 => 0x3EB77589#32
  | 127 => 0x3FACCD11#32
  | _ => 0#32

noncomputable abbrev lit0t0_153 (i : Nat) : BitVec 32 := match i % 128 with
  | 0 => 0x3F080366#32
  | 1 => 0xBF989768#32
  | 2 => 0xBDE2A24D#32
  | 3 => 0xBFE32802#32
  | 4 => 0x4052C195#32
  | 5 => 0x3E5C6D78#32
  | 6 => 0x3CB87FC7#32
  | 7 => 0xBE881FE2#32
  | 8 => 0xBDA4B88B#32
  | 9 => 0x3FC7F8CC#32
  | 10 => 0x3E9206A7#32
  | 11 => 0xBFA9DFEB#32
  | 12 => 0x3F9001D3#32
  | 13 => 0xBE52143C#32
  | 14 => 0x3F27372C#32
  | 15 => 0xBE823511#32
  | 16 => 0xBF62BD4F#32
  | 17 => 0x3EA726CC#32
  | 18 => 0xBFA5C726#32
  | 19 => 0x4063FB63#32
  | 20 => 0xBFB55408#32
  | 21 => 0x400FF892#32
  | 22 => 0x3EC283B1#32
  | 23 => 0xBF15DF4C#32
  | 24 => 0x3FDE7D8D#32
  | 25 => 0xBF3E6FF2#32
  | 26 => 0x40131A4D#32
  | 27 => 0xBFB38347#32
  | 28 => 0xBE8F0576#32
  | 29 => 0xBFB6FFC3#32
  | 30 => 0x3BE19553#32
  | 31 => 0xBFA98934#32
  | 32 => 0xBEE434E4#32
  | 33 => 0x3FFF5EA3#32
  | 34 => 0x3F5A164B#32
  | 35 => 0xBE7A10D1#32
  | 36 => 0x4007276A#32
  | 37 => 0x4090269B#32
  | 38 => 0x3F434F2F#32
  | 39 => 0xBF50843C#32
  | 40 => 0xBF41251D#32
  | 41 => 0xBF570477#32
  | 42 => 0x3F3A11A4#32
  | 43 => 0x3E859E47#32
  | 44 => 0x401265C1#32
  | 45 => 0x3EBA45F4#32
  | 46 => 0x3F42C45B#32
  | 47 => 0x3E1181D4#32
  | 48 => 0x3FFB6359#32
  | 49 => 0x4052E286#32
  | 50 => 0x3F6A546B#32
  | 51 => 0x3FAE55B6#32
  | 52 => 0x3F984E93#32
  | 53 => 0x3FFD97C8#32
  | 54 => 0x40AFA78D#32
  | 55 => 0x3F1A197F#32
  | 56 => 0x3F702018#32
  | 57 => 0x3E0A1212#32
  | 58 => 0xBF089CF3#32
  | 59 => 0x3DA1C3D5#32
  | 60 => 0x3E942DD0#32
  | 61 => 0x3F130E0B#32
  | 62 => 0x3E22F815#32
  | 63 => 0x3F7CE126#32
  | 64 => 0x3F848CE5#32
  | 65 => 0xBF026E22#32
  | 66 => 0xBF149A54#32
  | 67 => 0xBE698C1B#32
  | 68 => 0x4004299B#32
  | 69 => 0xBFFC67D1#32
  | 70 => 0xBE96570A#32
  | 71 => 0xBE227BD6#32
  | 72 => 0x3F658CDB#32
  | 73 => 0xBD83C75D#32
  | 74 => 0x3F35B275#32
  | 75 => 0xBF2F9DE2#32
  | 76 => 0x3F6C65DE#32
  | 77 => 0x40125F12#32
  | 78 => 0x3F086320#32
  | 79 => 0xBF1CB50E#32
  | 80 => 0x3F1BCA0A#32
  | 81 => 0x3FAA3487#32
  | 82 => 0x3F454CBC#32
  | 83 => 0x3F8D0CE0#32
  | 84 => 0x4026DD7B#32
  | 85 => 0x3F09300C#32
  | 86 => 0x3FF1D3B3#32
  | 87 => 0x3FED1A35#32
  | 88 => 0x40307AFE#32
  | 89 => 0x409B8C0A#32
  | 90 => 0x3EE9B41E#32
  | 91 => 0xBE1A50EB#32
  | 92 => 0xBEB79EBA#32
  | 93 => 0x3F4D7070#32
  | 94 => 0x3F1149A0#32
  | 95 => 0x3F04C7A2#32
  | 96 => 0x404949E3#32
  | 97 => 0xBF7102BE#32
  | 98 => 0x3FE9CAAB#32
  | 99 => 0xBE24A8C8#32
  | 100 => 0x3FFCF8AB#32
  | 101 => 0x3C894816#32
  | 102 => 0xBF942F60#32
  | 103 => 0x3F53FF85#32
  | 104 => 0x3FB586DB#32
  | 105 => 0x4015C104#32
  | 106 => 0x3BF38492#32
  | 107 => 0xBE1CCFCB#32
  | 108 => 0xBF3C7768#32
  | 109 => 0x3D2ED4DE#32
  | 110 => 0xBF29D9FB#32
  | 111 => 0x3F50BC6A#32
  | 112 => 0x3F93D9A2#32
  | 113 => 0x3F8A617F#32
  | 114 => 0x3FFA856A#32
  | 115 => 0xBE8C63F0#32
  | 116 => 0xBEFBA1C3#32
  | 117 => 0x3FDF29F4#32
  | 118 => 0x3F29D608#32
  | 119 => 0x400ECBE5#32
  | 120 => 0xBE9C7F20#32
  | 121 => 0x3EAF8E0A#32
  | 122 => 0x40886F7D#32
  | 123 => 0xBF8804DE#32
  | 124 => 0x3EED8836#32
  | 125 => 0x3F471B6F#32
  | 126 => 0x3EF5D442#32
  | 127 => 0x3F187B94#32
  | _ => 0#32

noncomputable abbrev lit0t0_154 (i : Nat) : BitVec 32 := match i % 128 with
  | 0 => 0x3F1A6652#32
  | 1 => 0x3EE45A72#32
  | 2 => 0x3EF757D8#32
  | 3 => 0xBDA0FDC2#32
  | 4 => 0x407FF127#32
  | 5 => 0xBDA64616#32
  | 6 => 0xBE22F54C#32
  | 7 => 0x3D6307DD#32
  | 8 => 0xBF0AA84A#32
  | 9 => 0xBF69B846#32
  | 10 => 0x401985F8#32
  | 11 => 0x3F356C41#32
  | 12 => 0x3F06A5A4#32
  | 13 => 0x3FC51326#32
  | 14 => 0x40A30DD6#32
  | 15 => 0xBF3B5F79#32
  | 16 => 0xBEE9847A#32
  | 17 => 0xBE940CFD#32
  | 18 => 0x3FDCA4BB#32
  | 19 => 0xBF911C1E#32
  | 20 => 0xBE96CEC3#32
  | 21 => 0xBF7B4711#32
  | 22 => 0x3F8CE12E#32
  | 23 => 0xBF4B2BF9#32
  | 24 => 0x406932FB#32
  | 25 => 0x3FEA42DC#32
  | 26 => 0x407A833F#32
  | 27 => 0xBF13B318#32
  | 28 => 0x400B7858#32
  | 29 => 0x3F300DAF#32
  | 30 => 0x3E82C45B#32
  | 31 => 0xBF570721#32
  | 32 => 0xBE22999F#32
  | 33 => 0xBF1115F4#32
  | 34 => 0x3EF275F1#32
  | 35 => 0x401CD6C0#32
  | 36 => 0x404AA991#32
  | 37 => 0x40393B8D#32
  | 38 => 0x3FF3EDD0#32
  | 39 => 0x3F708A0A#32
  | 40 => 0xBFAAF49D#32
  | 41 => 0x3D65D700#32
  | 42 => 0x3E3851DC#32
  | 43 => 0xBECC2396#32
  | 44 => 0xBEF29CC2#32
  | 45 => 0x3F73747C#32
  | 46 => 0x3FA409CE#32
  | 47 => 0xBE6404D6#32
  | 48 => 0x3D8F41C5#32
  | 49 => 0xBF0ABF22#32
  | 50 => 0xBEC83193#32
  | 51 => 0x3E7B2A84#32
  | 52 => 0x4089B0BB#32
  | 53 => 0x3F927D6D#32
  | 54 => 0x3F21ED0B#32
  | 55 => 0xBE984E88#32
  | 56 => 0x3EFC663C#32
  | 57 => 0xBF6EEB4F#32
  | 58 => 0x3EC5C185#32
  | 59 => 0x3E8B55F8#32
  | 60 => 0xBF0D1916#32
  | 61 => 0xBFBFA8E7#32
  | 62 => 0xBE84C195#32
  | 63 => 0xBF368D64#32
  | 64 => 0x3ED41782#32
  | 65 => 0xBFA0EE2C#32
  | 66 => 0x3FB97180#32
  | 67 => 0x3F31479F#32
  | 68 => 0x3F9AE746#32
  | 69 => 0x3F9461C6#32
  | 70 => 0x3F12C686#32
  | 71 => 0x3ECC9258#32
  | 72 => 0xBEF7D2F4#32
  | 73 => 0xBDE3A137#32
  | 74 => 0xBF3C6AEA#32
  | 75 => 0x3F5A1A9C#32
  | 76 => 0x4031F733#32
  | 77 => 0xBEAB32FF#32
  | 78 => 0x3F7F3AF4#32
  | 79 => 0xBF93AE9D#32
  | 80 => 0xBF4BA18F#32
  | 81 => 0xBE6FD268#32
  | 82 => 0xBF86D4BC#32
  | 83 => 0xBE297364#32
  | 84 => 0x3FC2DFAE#32
  | 85 => 0xBF801988#32
  | 86 => 0x3DD74793#32
  | 87 => 0xBD27639B#32
  | 88 => 0xBED4044A#32
  | 89 => 0x3F0D6D21#32
  | 90 => 0x3F6E979C#32
  | 91 => 0x3F76CCF0#32
  | 92 => 0xBEA2B631#32
  | 93 => 0x3F9AB5CD#32
  | 94 => 0x4013F199#32
  | 95 => 0xBF3B723A#32
  | 96 => 0xBF84C9A6#32
  | 97 => 0xBED6BA4B#32
  | 98 => 0xBF0C7E22#32
  | 99 => 0xBEAE15BE#32
  | 100 => 0x3F2F51E8#32
  | 101 => 0x3F8B9002#32
  | 102 => 0xBF29CBFD#32
  | 103 => 0xBF29B0CC#32
  | 104 => 0x4048D861#32
  | 105 => 0x3F7570A4#32
  | 106 => 0x3F64A6CA#32
  | 107 => 0x4073A445#32
  | 108 => 0xBF4FF074#32
  | 109 => 0x3F1F7797#32
  | 110 => 0x405F3761#32
  | 111 => 0xBDC98A85#32
  | 112 => 0x3F94B093#32
  | 113 => 0xBF017FB0#32
  | 114 => 0xBF2EC566#32
  | 115 => 0x3EFE7972#32
  | 116 => 0x40519909#32
  | 117 => 0xBF09420A#32
  | 118 => 0x3E7378FC#32
  | 119 => 0x3F58B1F6#32
  | 120 => 0xBEE3E75A#32
  | 121 => 0x3DD2EDE4#32
  | 122 => 0xBF4B1A99#32
  | 123 => 0xBF743066#32
  | 124 => 0xBEC166C8#32
  | 125 => 0xBF20B66A#32
  | 126 => 0xBECF236F#32
  | 127 => 0x3E77326B#32
  | _ => 0#32

noncomputable abbrev lit0t0_155 (i : Nat) : BitVec 32 := match i % 128 with
  | 0 => 0xBF9E993D#32
  | 1 => 0xBF9B2ABE#32
  | 2 => 0x40308139#32
  | 3 => 0x3E26A2FC#32
  | 4 => 0x3FD442B8#32
  | 5 => 0xBEA311FF#32
  | 6 => 0x3EF4C366#32
  | 7 => 0x3FA96E4E#32
  | 8 => 0xBF236746#32
  | 9 => 0xBF867832#32
  | 10 => 0xBE8274EB#32
  | 11 => 0xBF725222#32
  | 12 => 0x3FBCDBA4#32
  | 13 => 0xBD8F8877#32
  | 14 => 0x3F626E80#32
  | 15 => 0x406AC212#32
  | 16 => 0xBF473DC8#32
  | 17 => 0x40248535#32
  | 18 => 0x3EC124E4#32
  | 19 => 0x3F4D26A0#32
  | 20 => 0x3E47BBF5#32
  | 21 => 0xBF35FE92#32
  | 22 => 0x3F7E5E90#32
  | 23 => 0xBF9368B6#32
  | 24 => 0x3E8D252B#32
  | 25 => 0x3F2A7079#32
  | 26 => 0x40A57957#32
  | 27 => 0xBE81ED01#32
  | 28 => 0x3E1702FD#32
  | 29 => 0xBF9BBDE3#32
  | 30 => 0x408422A9#32
  | 31 => 0xBFB0BC8C#32
  | 32 => 0x3F2C9ED3#32
  | 33 => 0x3CB66E4E#32
  | 34 => 0x3FAF0D75#32
  | 35 => 0x3E157613#32
  | 36 => 0xBE4EAC16#32
  | 37 => 0x3EABD268#32
  | 38 => 0x3E5959D2#32
  | 39 => 0xBE0247EA#32
  | 40 => 0x4006004B#32
  | 41 => 0xBE357EA6#32
  | 42 => 0xBF5DDF32#32
  | 43 => 0x400886AE#32
  | 44 => 0xBEDBF2D1#32
  | 45 => 0xBC7F59EF#32
  | 46 => 0xBE296161#32
  | 47 => 0xBE8F7F52#32
  | 48 => 0x403E7BA0#32
  | 49 => 0xBE073608#32
  | 50 => 0x3F551726#32
  | 51 => 0x3F80ED1E#32
  | 52 => 0x3FB01F18#32
  | 53 => 0xBE482574#32
  | 54 => 0xBF31C794#32
  | 55 => 0xBF1671C6#32
  | 56 => 0x40497608#32
  | 57 => 0xBF88F426#32
  | 58 => 0x3E856BAA#32
  | 59 => 0xBE5FD8F1#32
  | 60 => 0x3F3CF9B3#32
  | 61 => 0x3DC197CB#32
  | 62 => 0x3F006F8B#32
  | 63 => 0xBE7832FF#32
  | 64 => 0x3F24116F#32
  | 65 => 0x3FD9D1F6#32
  | 66 => 0x3EBC01A0#32
  | 67 => 0xBF9BB07D#32
  | 68 => 0x3E9E6EA4#32
  | 69 => 0x3F62C2F6#32
  | 70 => 0x40ACA381#32
  | 71 => 0x3FF8327F#32
  | 72 => 0xBD74A775#32
  | 73 => 0x3FD9429C#32
  | 74 => 0xBF173CEC#32
  | 75 => 0x3EBB6EB0#32
  | 76 => 0x3CB21C5C#32
  | 77 => 0xBF1AA752#32
  | 78 => 0xBD6D3405#32
  | 79 => 0xBD169CD9#32
  | 80 => 0x3FAB9693#32
  | 81 => 0x3BC15AC0#32
  | 82 => 0x3F648364#32
  | 83 => 0xBFBF86FF#32
  | 84 => 0x3FCE690C#32
  | 85 => 0x3EB9E19A#32
  | 86 => 0x3F8C6DC3#32
  | 87 => 0x3FACAD63#32
  | 88 => 0xBFAFD47C#32
  | 89 => 0x3FA822CA#32
  | 90 => 0x3F9BCB7B#32
  | 91 => 0x3EFBA2DB#32
  | 92 => 0xBF1071B0#32
  | 93 => 0x3FBDF4C4#32
  | 94 => 0x402B81D6#32
  | 95 => 0x3F216BBE#32
  | 96 => 0x3FFCB103#32
  | 97 => 0x3FF72F94#32
  | 98 => 0x3EB43C5A#32
  | 99 => 0xBDFBCE37#32
  | 100 => 0x401EAF85#32
  | 101 => 0x4053D791#32
  | 102 => 0x3EB9D52B#32
  | 103 => 0xBF79F63E#32
  | 104 => 0xBEF95E00#32
  | 105 => 0xBE7BDAF5#32
  | 106 => 0x40095D0A#32
  | 107 => 0x3FC37D27#32
  | 108 => 0xBF905190#32
  | 109 => 0xBBFD30F1#32
  | 110 => 0x3F0D4932#32
  | 111 => 0xBFD8A06C#32
  | 112 => 0x3F38D150#32
  | 113 => 0x3FAE1E75#32
  | 114 => 0x3F72B944#32
  | 115 => 0x3F77AC10#32
  | 116 => 0x3DF6B5A8#32
  | 117 => 0xBFC61E46#32
  | 118 => 0x3FDEA64F#32
  | 119 => 0x3FCA1DC5#32
  | 120 => 0x3F99BE7B#32
  | 121 => 0x3FBC4E0F#32
  | 122 => 0x3E872F5A#32
  | 123 => 0xBF8B60BA#32
  | 124 => 0xBECC9F4A#32
  | 125 => 0xBC858FC0#32
  | 126 => 0x4018CC67#32
  | 127 => 0xBDE488C0#32
  | _ => 0#32

noncomputable abbrev lit0t0_156 (i : Nat) : BitVec 32 := match i % 128 with
  | 0 => 0x4004CF08#32
  | 1 => 0xBEFE903A#32
  | 2 => 0xBEB2D116#32
  | 3 => 0x40EE9FDA#32
  | 4 => 0xBF52E934#32
  | 5 => 0x3E6AF763#32
  | 6 => 0xBF1FE506#32
  | 7 => 0x3EF4C1D0#32
  | 8 => 0x3F924F14#32
  | 9 => 0x3F10D751#32
  | 10 => 0x3EB53D7E#32
  | 11 => 0x409E1C09#32
  | 12 => 0x3FC9E076#32
  | 13 => 0xBF16822E#32
  | 14 => 0xBEA3396B#32
  | 15 => 0xBF170F1C#32
  | 16 => 0xBE73917E#32
  | 17 => 0xBFA48033#32
  | 18 => 0x3F9CE2D0#32
  | 19 => 0xBF0267CF#32
  | 20 => 0xBD3EDD71#32
  | 21 => 0x3DDA3ED4#32
  | 22 => 0x3F977192#32
  | 23 => 0x3FA86904#32
  | 24 => 0x3E6791EA#32
  | 25 => 0x407E9F6E#32
  | 26 => 0x3F63CB6A#32
  | 27 => 0x3F20CA9D#32
  | 28 => 0x3E9DA806#32
  | 29 => 0x3F9935CE#32
  | 30 => 0x3F661D8C#32
  | 31 => 0xBF06D369#32
  | 32 => 0x4004BAB0#32
  | 33 => 0x3F1B062F#32
  | 34 => 0xBF85BD42#32
  | 35 => 0x3FF6CE57#32
  | 36 => 0xBFBC79D1#32
  | 37 => 0xBEC46789#32
  | 38 => 0x3F924EBD#32
  | 39 => 0x3C8DA349#32
  | 40 => 0x3F5EED10#32
  | 41 => 0x3FAC763B#32
  | 42 => 0x40052798#32
  | 43 => 0x404C0A5C#32
  | 44 => 0xBE3F689D#32
  | 45 => 0xBD928821#32
  | 46 => 0x3D8FCB10#32
  | 47 => 0xBF7E8F84#32
  | 48 => 0xBF852A12#32
  | 49 => 0xBF337F8D#32
  | 50 => 0x3F49F4F8#32
  | 51 => 0x3F735F45#32
  | 52 => 0xBEC7DD74#32
  | 53 => 0x40297DB8#32
  | 54 => 0x4007BBFB#32
  | 55 => 0x3F9B1703#32
  | 56 => 0xBE9F0D46#32
  | 57 => 0x3F95A8CE#32
  | 58 => 0xBEC4340A#32
  | 59 => 0x40434D82#32
  | 60 => 0xBE91A120#32
  | 61 => 0xBF166DFE#32
  | 62 => 0x3FC2D7D2#32
  | 63 => 0x3F35FE8B#32
  | 64 => 0x3F6CEB4C#32
  | 65 => 0x409D45FA#32
  | 66 => 0xBE9BE53A#32
  | 67 => 0xBF800C10#32
  | 68 => 0xBF84328F#32
  | 69 => 0x4085CBFF#32
  | 70 => 0x3E1A451C#32
  | 71 => 0x40246EA5#32
  | 72 => 0x3F00B39D#32
  | 73 => 0x3FB09FC0#32
  | 74 => 0xBF73763F#32
  | 75 => 0xBF87218A#32
  | 76 => 0xBE4DC206#32
  | 77 => 0xBFB13729#32
  | 78 => 0xBFAF4EFF#32
  | 79 => 0x3EE1ABC9#32
  | 80 => 0xBF4A7CF2#32
  | 81 => 0x3EA38911#32
  | 82 => 0x3EC0E8A4#32
  | 83 => 0x3CF1CD24#32
  | 84 => 0x40DAFD8A#32
  | 85 => 0x3EA3639F#32
  | 86 => 0xBF847173#32
  | 87 => 0x3FF8A0B1#32
  | 88 => 0xBF2959AF#32
  | 89 => 0x3FCBCD57#32
  | 90 => 0x3ED8AE50#32
  | 91 => 0xBE185124#32
  | 92 => 0x3EE485B1#32
  | 93 => 0x4010079A#32
  | 94 => 0x3FDC5AF8#32
  | 95 => 0x40801DA9#32
  | 96 => 0x3F131343#32
  | 97 => 0xBFC06426#32
  | 98 => 0x3D4CDF4C#32
  | 99 => 0xBDB80ABC#32
  | 100 => 0x3F6096DC#32
  | 101 => 0x4002FFF8#32
  | 102 => 0x404744F4#32
  | 103 => 0x3F10DCE7#32
  | 104 => 0xBF7F8A66#32
  | 105 => 0x3FB2E6E0#32
  | 106 => 0x407823A9#32
  | 107 => 0x3FBD953B#32
  | 108 => 0x40159D72#32
  | 109 => 0x3FCD730C#32
  | 110 => 0xBFE960C8#32
  | 111 => 0x3FCA41CE#32
  | 112 => 0x4015B8D4#32
  | 113 => 0x3F9160FA#32
  | 114 => 0x3F796857#32
  | 115 => 0x3F5D3D23#32
  | 116 => 0x40281A5F#32
  | 117 => 0x3F95F9E3#32
  | 118 => 0x3FB006CB#32
  | 119 => 0xBF8A32CA#32
  | 120 => 0x3FC407F8#32
  | 121 => 0x3FA28B2D#32
  | 122 => 0xBF924509#32
  | 123 => 0x3FAEA399#32
  | 124 => 0x40872EB0#32
  | 125 => 0x3FFCD2BD#32
  | 126 => 0x3FDCE62B#32
  | 127 => 0x3DCC2602#32
  | _ => 0#32

noncomputable abbrev lit0t0_157 (i : Nat) : BitVec 32 := match i % 128 with
  | 0 => 0x3EE9E867#32
  | 1 => 0x40161EC1#32
  | 2 => 0x3F2E023B#32
  | 3 => 0x3F63FD98#32
  | 4 => 0x3FF81BDE#32
  | 5 => 0x3F6A9A3E#32
  | 6 => 0xBEA3807C#32
  | 7 => 0x3F38E53B#32
  | 8 => 0x409141F0#32
  | 9 => 0xBFCF9C3B#32
  | 10 => 0xBE8F8AD8#32
  | 11 => 0xBF10549D#32
  | 12 => 0xBE6E9284#32
  | 13 => 0xBF472048#32
  | 14 => 0xBED55483#32
  | 15 => 0x403794DB#32
  | 16 => 0x3F1FA5C5#32
  | 17 => 0xBF86813C#32
  | 18 => 0x3FE6927E#32
  | 19 => 0x3F67B92C#32
  | 20 => 0xBF249D2E#32
  | 21 => 0xBDF9E5DA#32
  | 22 => 0x3EB9E75D#32
  | 23 => 0x3F8B6DA7#32
  | 24 => 0x3DB6FE5A#32
  | 25 => 0x403FF82B#32
  | 26 => 0xBE499AEC#32
  | 27 => 0x400CEFC3#32
  | 28 => 0x40377C0C#32
  | 29 => 0x404A86CD#32
  | 30 => 0x3F3533C5#32
  | 31 => 0x3F001746#32
  | 32 => 0x401C61E4#32
  | 33 => 0xBF54E899#32
  | 34 => 0xBD2BDBBA#32
  | 35 => 0x401EB7D0#32
  | 36 => 0x3F18B0C4#32
  | 37 => 0x3F09AE82#32
  | 38 => 0x3EC15A67#32
  | 39 => 0x4023721A#32
  | 40 => 0xBDC958D8#32
  | 41 => 0xBE9E7A23#32
  | 42 => 0xBF871158#32
  | 43 => 0xBEBFD7D6#32
  | 44 => 0x3FAAECE6#32
  | 45 => 0x3FC86984#32
  | 46 => 0x3FD795FF#32
  | 47 => 0xBEC0FF1B#32
  | 48 => 0x3EED7BBA#32
  | 49 => 0xBE1D1548#32
  | 50 => 0xBE9789F7#32
  | 51 => 0x3F879AF7#32
  | 52 => 0x401539A9#32
  | 53 => 0x3F912CB8#32
  | 54 => 0x3FAF1982#32
  | 55 => 0xBEAFBE57#32
  | 56 => 0x3F10A2D8#32
  | 57 => 0xBF764438#32
  | 58 => 0x400B8D9F#32
  | 59 => 0x3F8A7D60#32
  | 60 => 0xBEB5F264#32
  | 61 => 0xBF3B51C5#32
  | 62 => 0x3F1B60F6#32
  | 63 => 0x3ECB9502#32
  | 64 => 0x3F60D362#32
  | 65 => 0x3DFFDB24#32
  | 66 => 0x3F832F59#32
  | 67 => 0xBDCE247E#32
  | 68 => 0xBFBA460F#32
  | 69 => 0x3F1DC4A3#32
  | 70 => 0xBF5DC9A4#32
  | 71 => 0x3FC37F41#32
  | 72 => 0xBE8A8A32#32
  | 73 => 0xBF40A728#32
  | 74 => 0x3F87121F#32
  | 75 => 0xBF489294#32
  | 76 => 0x3E05316F#32
  | 77 => 0xBF50867C#32
  | 78 => 0x40111790#32
  | 79 => 0x401E02DA#32
  | 80 => 0x4034DA30#32
  | 81 => 0x402BF3C4#32
  | 82 => 0xBEA6FD8A#32
  | 83 => 0xBF041E7C#32
  | 84 => 0xBEA84FEA#32
  | 85 => 0x3F012434#32
  | 86 => 0xBE8D098E#32
  | 87 => 0x4032606E#32
  | 88 => 0xBF467B9C#32
  | 89 => 0x3F572CFA#32
  | 90 => 0x3FB7F661#32
  | 91 => 0x3EE51D76#32
  | 92 => 0x3F27376C#32
  | 93 => 0x3F3A68A0#32
  | 94 => 0x3E34C426#32
  | 95 => 0xBF1539FC#32
  | 96 => 0xBEE68B4A#32
  | 97 => 0x3F7E298F#32
  | 98 => 0xBF8C85EE#32
  | 99 => 0x3E57CBF1#32
  | 100 => 0xBF207447#32
  | 101 => 0x40157B74#32
  | 102 => 0x3FCEC827#32
  | 103 => 0x3FDB1092#32
  | 104 => 0x4090C51C#32
  | 105 => 0x3EE0C1AC#32
  | 106 => 0xBE8FF2DC#32
  | 107 => 0xBE9A08BD#32
  | 108 => 0x3FC48E13#32
  | 109 => 0x3EC0FABC#32
  | 110 => 0xBFB0B452#32
  | 111 => 0x3F0D2A0C#32
  | 112 => 0xBE919DCD#32
  | 113 => 0x3D301496#32
  | 114 => 0x3F5BC5B8#32
  | 115 => 0xBF32E828#32
  | 116 => 0x3F8487A7#32
  | 117 => 0xBEBF3826#32
  | 118 => 0xBF71043D#32
  | 119 => 0x3F284B9C#32
  | 120 => 0x407B572A#32
  | 121 => 0x3F9D60C0#32
  | 122 => 0x3EC5071C#32
  | 123 => 0x3CF93AC9#32
  | 124 => 0x3FDB2CCC#32
  | 125 => 0x3E98EC68#32
  | 126 => 0x400661CC#32
  | 127 => 0xBE0F8355#32
  | _ => 0#32

noncomputable abbrev lit0t0_158 (i : Nat) : BitVec 32 := match i % 128 with
  | 0 => 0x3F919552#32
  | 1 => 0xBE0E589C#32
  | 2 => 0x402DBABA#32
  | 3 => 0x3FDD9A0D#32
  | 4 => 0xBF8C2386#32
  | 5 => 0x4012AEE0#32
  | 6 => 0xBF2390C6#32
  | 7 => 0xBF93C033#32
  | 8 => 0x40209F29#32
  | 9 => 0xBF7BA8D5#32
  | 10 => 0x3FF891FA#32
  | 11 => 0x3FEF9FA5#32
  | 12 => 0xBF14B190#32
  | 13 => 0xBF7C41E8#32
  | 14 => 0x3FA87A23#32
  | 15 => 0xBF4817DE#32
  | 16 => 0xBDDA6CFD#32
  | 17 => 0xBE891A32#32
  | 18 => 0x3F46F497#32
  | 19 => 0x401AD814#32
  | 20 => 0x40310D43#32
  | 21 => 0x3FC3792C#32
  | 22 => 0xBF09222C#32
  | 23 => 0xBF9F2C29#32
  | 24 => 0x3E68E50B#32
  | 25 => 0x3F9DD48C#32
  | 26 => 0xBD736269#32
  | 27 => 0x3F3BBF1A#32
  | 28 => 0xBE575992#32
  | 29 => 0x3FBC01E2#32
  | 30 => 0xBF4A61B1#32
  | 31 => 0x400A8DE3#32
  | 32 => 0xBEBD9F26#32
  | 33 => 0x3EA361C0#32
  | 34 => 0xBE5C087C#32
  | 35 => 0x3F06218A#32
  | 36 => 0xBF8984F6#32
  | 37 => 0xBEA34C9D#32
  | 38 => 0x3F043CB9#32
  | 39 => 0xBF6047B1#32
  | 40 => 0xBE921B03#32
  | 41 => 0x3ED6B343#32
  | 42 => 0xBF8E9116#32
  | 43 => 0x3F31A0F0#32
  | 44 => 0xBC034406#32
  | 45 => 0x3EE9EBA9#32
  | 46 => 0xBF6010EB#32
  | 47 => 0x3F6DB9A3#32
  | 48 => 0x3F4657BE#32
  | 49 => 0xBE837707#32
  | 50 => 0x3F98E076#32
  | 51 => 0xBF056F73#32
  | 52 => 0x3FBC3767#32
  | 53 => 0x3F77F1BC#32
  | 54 => 0x4081A7DB#32
  | 55 => 0x3FA3EBAC#32
  | 56 => 0xBE207E0B#32
  | 57 => 0xBF91A51C#32
  | 58 => 0x3F68D9EC#32
  | 59 => 0xBF8E209E#32
  | 60 => 0xBF836779#32
  | 61 => 0xBEAE818B#32
  | 62 => 0x3FB121DE#32
  | 63 => 0x3C495F83#32
  | 64 => 0xBF68B9EA#32
  | 65 => 0x3F3BA3DE#32
  | 66 => 0x3F53C2C7#32
  | 67 => 0x3DFAA100#32
  | 68 => 0xBDFB15A4#32
  | 69 => 0x3F25C173#32
  | 70 => 0xBFA87258#32
  | 71 => 0xBFAF0D06#32
  | 72 => 0xBF31CE13#32
  | 73 => 0x3FB5ACE4#32
  | 74 => 0xBFC056B0#32
  | 75 => 0x3E20CE13#32
  | 76 => 0x3E384CC5#32
  | 77 => 0x3E5CB541#32
  | 78 => 0x400E6A14#32
  | 79 => 0x3FDE473D#32
  | 80 => 0x3FE118FE#32
  | 81 => 0x3F16F5F4#32
  | 82 => 0xBF01202D#32
  | 83 => 0xBF6F6338#32
  | 84 => 0xBF2FE40D#32
  | 85 => 0x3F4F5EC5#32
  | 86 => 0xBFAD16B7#32
  | 87 => 0xBF16122E#32
  | 88 => 0x3F5E18BA#32
  | 89 => 0x3F020737#32
  | 90 => 0xBF5FE00C#32
  | 91 => 0xBC9B13DA#32
  | 92 => 0xBD6995CF#32
  | 93 => 0xBE7CB522#32
  | 94 => 0xBF8DCE72#32
  | 95 => 0xBF81C44F#32
  | 96 => 0xBEC7CEAC#32
  | 97 => 0x3C10040F#32
  | 98 => 0x3F8A206D#32
  | 99 => 0x3FAE78F3#32
  | 100 => 0xBEB12DD7#32
  | 101 => 0x3F580069#32
  | 102 => 0x3FCA0966#32
  | 103 => 0x3FAF6F66#32
  | 104 => 0xBF953980#32
  | 105 => 0x3F228F82#32
  | 106 => 0x3E03EC4D#32
  | 107 => 0x3F82D08A#32
  | 108 => 0x3FA83C06#32
  | 109 => 0x3F10A953#32
  | 110 => 0xBFA84386#32
  | 111 => 0xBF2D232C#32
  | 112 => 0x3FA850F9#32
  | 113 => 0x3E1CD5F2#32
  | 114 => 0x4046D4E5#32
  | 115 => 0xBEB32213#32
  | 116 => 0x3E34AB0F#32
  | 117 => 0x3F519E6F#32
  | 118 => 0x3EC76070#32
  | 119 => 0x3EC84B54#32
  | 120 => 0xBF588922#32
  | 121 => 0xBF54E29D#32
  | 122 => 0x3F3004E5#32
  | 123 => 0x3DA34A3F#32
  | 124 => 0x3F4280C0#32
  | 125 => 0xBD8F3167#32
  | 126 => 0xBF736E9E#32
  | 127 => 0x3EE3D502#32
  | _ => 0#32

noncomputable abbrev lit0t0_159 (i : Nat) : BitVec 32 := match i % 128 with
  | 0 => 0x3F8AFCF7#32
  | 1 => 0x3FF09A62#32
  | 2 => 0x4029783D#32
  | 3 => 0x3C82B68D#32
  | 4 => 0x3F27C40C#32
  | 5 => 0x3E8A8C8D#32
  | 6 => 0x3EE39A90#32
  | 7 => 0xBDFC349F#32
  | 8 => 0xBC3E9F05#32
  | 9 => 0xBECA55AE#32
  | 10 => 0x3EFA450E#32
  | 11 => 0x3EEDFC4E#32
  | 12 => 0xBE492CF8#32
  | 13 => 0xBF97134A#32
  | 14 => 0x3D8F5EE5#32
  | 15 => 0x4005ECDA#32
  | 16 => 0x3FB1288E#32
  | 17 => 0x3D8C6D5B#32
  | 18 => 0x3E4A0211#32
  | 19 => 0x40446BA0#32
  | 20 => 0x3F298AA0#32
  | 21 => 0x400C9490#32
  | 22 => 0x3FBCAE5C#32
  | 23 => 0x3FEF116F#32
  | 24 => 0xBE34A041#32
  | 25 => 0xBDFEB231#32
  | 26 => 0xBEAB5908#32
  | 27 => 0x3F28EF42#32
  | 28 => 0x3F75B36C#32
  | 29 => 0xBF6599CA#32
  | 30 => 0x3F7D4B2E#32
  | 31 => 0xBE6625DB#32
  | 32 => 0x3EB2A268#32
  | 33 => 0x4028F248#32
  | 34 => 0xBF884E40#32
  | 35 => 0xBE407983#32
  | 36 => 0x3F04ACDC#32
  | 37 => 0x3F4AC0D9#32
  | 38 => 0xBE5F5CA6#32
  | 39 => 0x3F9CB5DC#32
  | 40 => 0xBF0F5DF8#32
  | 41 => 0x3E351B8F#32
  | 42 => 0x3F30C19F#32
  | 43 => 0x3FD25932#32
  | 44 => 0x3F8EC0DA#32
  | 45 => 0x4001C8BA#32
  | 46 => 0x3E67FEBE#32
  | 47 => 0xBEE01BA0#32
  | 48 => 0x40566CCC#32
  | 49 => 0x3F5C834E#32
  | 50 => 0x3F8FB420#32
  | 51 => 0x3EA8B2B1#32
  | 52 => 0x3E49D052#32
  | 53 => 0x3FD7F06F#32
  | 54 => 0x400C2F11#32
  | 55 => 0xBED2FC3F#32
  | 56 => 0xBEAAF5C6#32
  | 57 => 0xBF2DB92E#32
  | 58 => 0x3EE30823#32
  | 59 => 0x3FC1CE21#32
  | 60 => 0x3EC6692C#32
  | 61 => 0x3FF4B1EB#32
  | 62 => 0x3F6BFF0D#32
  | 63 => 0x3FC7A401#32
  | 64 => 0x3FC6DD1A#32
  | 65 => 0x400BC28E#32
  | 66 => 0x3F86FA82#32
  | 67 => 0x3F9ED924#32
  | 68 => 0x402999E2#32
  | 69 => 0x3FA3C2E4#32
  | 70 => 0xBF988244#32
  | 71 => 0x3DEE6148#32
  | 72 => 0x3F6D97B5#32
  | 73 => 0xBFC3A591#32
  | 74 => 0x3F6827CC#32
  | 75 => 0x3F2A0451#32
  | 76 => 0xBF652017#32
  | 77 => 0xBF4DAD6E#32
  | 78 => 0x3F84578A#32
  | 79 => 0x3F2881F2#32
  | 80 => 0xBF4C21D3#32
  | 81 => 0xBF9F3232#32
  | 82 => 0xBF6E4FEA#32
  | 83 => 0x3F0C4A5F#32
  | 84 => 0x3F580A84#32
  | 85 => 0x4036FFA0#32
  | 86 => 0xBEE2E6FF#32
  | 87 => 0x3F7EFE2A#32
  | 88 => 0x3F2F5874#32
  | 89 => 0x3E505A81#32
  | 90 => 0x3E408A93#32
  | 91 => 0x3FB80D37#32
  | 92 => 0x3F689DDE#32
  | 93 => 0x3F86C766#32
  | 94 => 0xBF3BDC76#32
  | 95 => 0x3CEEA0A9#32
  | 96 => 0xBF96EA28#32
  | 97 => 0xBDD6DA95#32
  | 98 => 0x3D8656E6#32
  | 99 => 0xBF2E16E9#32
  | 100 => 0xBFBC17AA#32
  | 101 => 0x3EFF3076#32
  | 102 => 0x3E8D64C2#32
  | 103 => 0xBDC93EE6#32
  | 104 => 0x400E19F9#32
  | 105 => 0x3E2ED11A#32
  | 106 => 0xBED5DD2D#32
  | 107 => 0xBCE41320#32
  | 108 => 0x3BF64755#32
  | 109 => 0xBE806BB9#32
  | 110 => 0x3F81A175#32
  | 111 => 0xBF45CE0D#32
  | 112 => 0x3E792350#32
  | 113 => 0x3E9B0F7D#32
  | 114 => 0x3F444E82#32
  | 115 => 0x3F0F2CBB#32
  | 116 => 0x3F1311E0#32
  | 117 => 0xBDEF2869#32
  | 118 => 0x3F284A86#32
  | 119 => 0xBFA8C222#32
  | 120 => 0xBE78CDFC#32
  | 121 => 0x3F793F0C#32
  | 122 => 0xBF49C900#32
  | 123 => 0x4010F3F3#32
  | 124 => 0x400DEFA2#32
  | 125 => 0x3F9D25C9#32
  | 126 => 0xBE73A15C#32
  | 127 => 0xBE874D6E#32
  | _ => 0#32

noncomputable abbrev lit0t0_160 (i : Nat) : BitVec 32 := match i % 128 with
  | 0 => 0xBF980AFE#32
  | 1 => 0x3DE3C07F#32
  | 2 => 0x3F6C95D6#32
  | 3 => 0x408681FC#32
  | 4 => 0x3FA83D79#32
  | 5 => 0x3F9D5917#32
  | 6 => 0x3F0C32FA#32
  | 7 => 0x3E5C0A87#32
  | 8 => 0x3FE780BB#32
  | 9 => 0x4024576D#32
  | 10 => 0x3E5B3CA9#32
  | 11 => 0xBEDB1C7C#32
  | 12 => 0x4041DF54#32
  | 13 => 0x3CEB038D#32
  | 14 => 0x3F2184DE#32
  | 15 => 0x3DACFDE1#32
  | 16 => 0x4015A673#32
  | 17 => 0xBF8CBFED#32
  | 18 => 0xBF195054#32
  | 19 => 0xBF751876#32
  | 20 => 0xBF526298#32
  | 21 => 0x40464DE7#32
  | 22 => 0x3DAA393B#32
  | 23 => 0x3FAECB6E#32
  | 24 => 0xBE3C1AD6#32
  | 25 => 0x3E61CC67#32
  | 26 => 0x408BFE20#32
  | 27 => 0x40474576#32
  | 28 => 0xBFAB1FDE#32
  | 29 => 0x3FA2B551#32
  | 30 => 0xBF816C1F#32
  | 31 => 0x3FC93E37#32
  | 32 => 0x3E329B2C#32
  | 33 => 0x3E670AEB#32
  | 34 => 0x3EAA72B3#32
  | 35 => 0x3F37180B#32
  | 36 => 0x3E4B0CCA#32
  | 37 => 0x3B81816E#32
  | 38 => 0x3F80C890#32
  | 39 => 0x402A5B58#32
  | 40 => 0x3E98D0D2#32
  | 41 => 0x3F972DC8#32
  | 42 => 0x3F307026#32
  | 43 => 0x3F82B543#32
  | 44 => 0xBF6CEE4F#32
  | 45 => 0xBF13C0C4#32
  | 46 => 0xBFCE6880#32
  | 47 => 0x3F96487E#32
  | 48 => 0xBE9FE290#32
  | 49 => 0x3FF55393#32
  | 50 => 0xB8B03E1B#32
  | 51 => 0x3F7E2FF2#32
  | 52 => 0x3F3E6CE2#32
  | 53 => 0xBEE45C9E#32
  | 54 => 0x3FFFF246#32
  | 55 => 0x3DD064DD#32
  | 56 => 0x406B3CF9#32
  | 57 => 0xBD3208BD#32
  | 58 => 0x3F6F0406#32
  | 59 => 0x400AA0B3#32
  | 60 => 0xBF9B8625#32
  | 61 => 0x3EB80F45#32
  | 62 => 0x3EEF53F2#32
  | 63 => 0x3C124B35#32
  | 64 => 0x3FC0DBE0#32
  | 65 => 0xBDCF80E8#32
  | 66 => 0xBED00D6A#32
  | 67 => 0x401EAE8F#32
  | 68 => 0x3F920F5E#32
  | 69 => 0x3FA04324#32
  | 70 => 0x3F792C0B#32
  | 71 => 0x4099A830#32
  | 72 => 0x3D37A88F#32
  | 73 => 0x3DB58F2E#32
  | 74 => 0xBF3A6BEC#32
  | 75 => 0xBE7B9A12#32
  | 76 => 0x3F2F532B#32
  | 77 => 0xBF3BCE95#32
  | 78 => 0x3FACAEED#32
  | 79 => 0x3F901552#32
  | 80 => 0xBDEF3489#32
  | 81 => 0x3E977BC7#32
  | 82 => 0x4039D988#32
  | 83 => 0xBE8043A5#32
  | 84 => 0x3ED3AC05#32
  | 85 => 0xBF513089#32
  | 86 => 0xBB976159#32
  | 87 => 0x3FEDD89C#32
  | 88 => 0xBF25477C#32
  | 89 => 0x3F58B8CA#32
  | 90 => 0x3F577227#32
  | 91 => 0x3E9D4C0A#32
  | 92 => 0xBFB3C08B#32
  | 93 => 0xBE6B8361#32
  | 94 => 0x3ED0ED2E#32
  | 95 => 0xBFE2C369#32
  | 96 => 0xBEE8DF12#32
  | 97 => 0x3C60B01E#32
  | 98 => 0x3F2DA8E6#32
  | 99 => 0x406A730E#32
  | 100 => 0xBE73C827#32
  | 101 => 0x3FD3EFD4#32
  | 102 => 0xBDCE8940#32
  | 103 => 0x3E84AC6E#32
  | 104 => 0xBE3FD4F9#32
  | 105 => 0x3F14F101#32
  | 106 => 0x3F67DF02#32
  | 107 => 0x3DF82BD4#32
  | 108 => 0xBD8DD262#32
  | 109 => 0xBF800BC2#32
  | 110 => 0x3E2B17B9#32
  | 111 => 0x3F5495D6#32
  | 112 => 0xBED8CA1A#32
  | 113 => 0x3F805F5E#32
  | 114 => 0x40243AAA#32
  | 115 => 0x3EF2D9DC#32
  | 116 => 0xBC5B4F11#32
  | 117 => 0x3EBD0537#32
  | 118 => 0x3EE0A30E#32
  | 119 => 0x3DA1F152#32
  | 120 => 0xBEBF90C4#32
  | 121 => 0x3FAE6C4A#32
  | 122 => 0x3FFFADFD#32
  | 123 => 0xBF247348#32
  | 124 => 0xBFAAB228#32
  | 125 => 0xBE153849#32
  | 126 => 0xBF2BE5EB#32
  | 127 => 0x3FC069F4#32
  | _ => 0#32

noncomputable abbrev lit0t0_161 (i : Nat) : BitVec 32 := match i % 128 with
  | 0 => 0x402AA728#32
  | 1 => 0x401DE45A#32
  | 2 => 0xBF8945B2#32
  | 3 => 0x3F8F8815#32
  | 4 => 0xBF5EC584#32
  | 5 => 0x3F221BCD#32
  | 6 => 0x3F92C67C#32
  | 7 => 0x3E879525#32
  | 8 => 0x4041311F#32
  | 9 => 0x3E109C67#32
  | 10 => 0x40078BF5#32
  | 11 => 0x409D33C3#32
  | 12 => 0x3E8D0221#32
  | 13 => 0xBE974363#32
  | 14 => 0xBF4E959A#32
  | 15 => 0x3FB4E279#32
  | 16 => 0x3F1E1363#32
  | 17 => 0x3FE74958#32
  | 18 => 0x3FB8C961#32
  | 19 => 0xBF361424#32
  | 20 => 0xBDEE369C#32
  | 21 => 0x3EEC3891#32
  | 22 => 0xBEC5C2AA#32
  | 23 => 0x3E966E90#32
  | 24 => 0x3E046CBE#32
  | 25 => 0x3F17B8C2#32
  | 26 => 0xBF8B49C2#32
  | 27 => 0x3FA2E07A#32
  | 28 => 0x3F4889CB#32
  | 29 => 0xBF2D6972#32
  | 30 => 0xBF9D31CD#32
  | 31 => 0x3F632251#32
  | 32 => 0x3B9536D7#32
  | 33 => 0xBE7650DB#32
  | 34 => 0x3F4E6E3D#32
  | 35 => 0x3FC058B7#32
  | 36 => 0x403A28E9#32
  | 37 => 0xBF121914#32
  | 38 => 0x3C4CB3C2#32
  | 39 => 0x3F8560AD#32
  | 40 => 0xBF8B7501#32
  | 41 => 0x3F1855E7#32
  | 42 => 0x3FA4F97B#32
  | 43 => 0x3F6FA0E6#32
  | 44 => 0xBF3AA879#32
  | 45 => 0x3EA54E7E#32
  | 46 => 0x3F224492#32
  | 47 => 0x40554F2A#32
  | 48 => 0xBEA4883A#32
  | 49 => 0x403C5ADF#32
  | 50 => 0x3ED8E22A#32
  | 51 => 0x3FF1A5D5#32
  | 52 => 0xBECC9D61#32
  | 53 => 0x3FD0414C#32
  | 54 => 0x40149856#32
  | 55 => 0x3FD131F6#32
  | 56 => 0x3FF247C4#32
  | 57 => 0x3F7C3474#32
  | 58 => 0x3F992677#32
  | 59 => 0x3F0F71D6#32
  | 60 => 0xBF17D524#32
  | 61 => 0x3EAF6773#32
  | 62 => 0xBEF1DEC8#32
  | 63 => 0xBDECFB00#32
  | 64 => 0x3FF47C98#32
  | 65 => 0x4082EDA3#32
  | 66 => 0x3E887A8B#32
  | 67 => 0x4003A22D#32
  | 68 => 0x40807C34#32
  | 69 => 0x3FA9F935#32
  | 70 => 0x3E6F8E89#32
  | 71 => 0x3E8C2C99#32
  | 72 => 0x3FEB5A42#32
  | 73 => 0x3F891119#32
  | 74 => 0xBEAFA7A6#32
  | 75 => 0xBE0A724F#32
  | 76 => 0xBF2FE0D6#32
  | 77 => 0x405A1351#32
  | 78 => 0xBEABECFE#32
  | 79 => 0xBF37E339#32
  | 80 => 0x401FEA3A#32
  | 81 => 0xBE1A56F1#32
  | 82 => 0xBF59B930#32
  | 83 => 0x40130EA6#32
  | 84 => 0x3F696DE8#32
  | 85 => 0x3D965B3D#32
  | 86 => 0x3C2FDB3E#32
  | 87 => 0x3F61AAB2#32
  | 88 => 0xBF3E99B4#32
  | 89 => 0x3EDC9C69#32
  | 90 => 0xBF7068EA#32
  | 91 => 0x3F732217#32
  | 92 => 0xBF3091FF#32
  | 93 => 0xBE983034#32
  | 94 => 0xBB17573C#32
  | 95 => 0x3EFA514A#32
  | 96 => 0x4009BD39#32
  | 97 => 0xBFE9FA5D#32
  | 98 => 0x4014FD83#32
  | 99 => 0xBF4477FF#32
  | 100 => 0x3FBC00DB#32
  | 101 => 0x3F1845EB#32
  | 102 => 0xBF4D7436#32
  | 103 => 0x3E1CD7E9#32
  | 104 => 0x3FB439C7#32
  | 105 => 0xBEBBDBED#32
  | 106 => 0x3F88D780#32
  | 107 => 0x3E995BCA#32
  | 108 => 0x40888DAB#32
  | 109 => 0x3F59C8DA#32
  | 110 => 0xBE8F19AE#32
  | 111 => 0x3FB01D71#32
  | 112 => 0xBF20EC0E#32
  | 113 => 0x3FAB1357#32
  | 114 => 0xBD5F2BAE#32
  | 115 => 0x3F1EF414#32
  | 116 => 0xBD61709C#32
  | 117 => 0x3FD721F8#32
  | 118 => 0x3FC139B1#32
  | 119 => 0xBF7197C5#32
  | 120 => 0xBE4F767B#32
  | 121 => 0xBE729183#32
  | 122 => 0xBF1AB19E#32
  | 123 => 0xBF3E92A3#32
  | 124 => 0xBF0A2DA3#32
  | 125 => 0x3F8CCCFA#32
  | 126 => 0x3FE2B2F7#32
  | 127 => 0xBF12F847#32
  | _ => 0#32

noncomputable abbrev lit0t0_162 (i : Nat) : BitVec 32 := match i % 128 with
  | 0 => 0x3FC2A7E9#32
  | 1 => 0x3FB4D9A6#32
  | 2 => 0x3EF70BAD#32
  | 3 => 0x3F85ACAC#32
  | 4 => 0x400567E9#32
  | 5 => 0xBF8FA84D#32
  | 6 => 0x3FDE109B#32
  | 7 => 0x4025075A#32
  | 8 => 0xBF2FE6B7#32
  | 9 => 0x3DC15151#32
  | 10 => 0x3EA53E04#32
  | 11 => 0x3F06C73A#32
  | 12 => 0x3FF8209A#32
  | 13 => 0x3FAC7C05#32
  | 14 => 0xBEFF488B#32
  | 15 => 0xBF375D05#32
  | 16 => 0xBED5A338#32
  | 17 => 0xBF5DF98A#32
  | 18 => 0xBD8F76C0#32
  | 19 => 0xBDE848CE#32
  | 20 => 0x3F7904BC#32
  | 21 => 0x3FABD2DE#32
  | 22 => 0x3F18C7DE#32
  | 23 => 0xBFA24211#32
  | 24 => 0x402A295A#32
  | 25 => 0x3F172C53#32
  | 26 => 0x400ED5D1#32
  | 27 => 0xBF58072D#32
  | 28 => 0x3FA300B4#32
  | 29 => 0xBD813558#32
  | 30 => 0x3FCB8030#32
  | 31 => 0x3F6132E2#32
  | 32 => 0xBF67AC17#32
  | 33 => 0xBE4D75EB#32
  | 34 => 0xBDC5AA1D#32
  | 35 => 0xBDBA0365#32
  | 36 => 0x3DD15FAE#32
  | 37 => 0x3F4AA889#32
  | 38 => 0xBD116B08#32
  | 39 => 0x40119B9C#32
  | 40 => 0xBF04C021#32
  | 41 => 0x3F8C89DA#32
  | 42 => 0xBF8C718D#32
  | 43 => 0xBE34655C#32
  | 44 => 0x3F961CFF#32
  | 45 => 0x3FE6C483#32
  | 46 => 0xBE0F653C#32
  | 47 => 0x3E440DDC#32
  | 48 => 0x3F99C1E1#32
  | 49 => 0xBF672968#32
  | 50 => 0x3E6B494E#32
  | 51 => 0x3EA6D39E#32
  | 52 => 0x3EB664AE#32
  | 53 => 0x4095FBB1#32
  | 54 => 0x3F304F91#32
  | 55 => 0xBF04503C#32
  | 56 => 0x3EB33CE1#32
  | 57 => 0xBED6127F#32
  | 58 => 0x3FE97308#32
  | 59 => 0xBEB903F4#32
  | 60 => 0xC007DA1C#32
  | 61 => 0x3F93E1F4#32
  | 62 => 0xBEE6908E#32
  | 63 => 0xBD8A093A#32
  | 64 => 0xBECA53AE#32
  | 65 => 0xBFB187E8#32
  | 66 => 0xBF3D0968#32
  | 67 => 0x3FF62118#32
  | 68 => 0xBE19985C#32
  | 69 => 0xBCDB284B#32
  | 70 => 0x3E9CE7E0#32
  | 71 => 0x40187BA9#32
  | 72 => 0xBF941FE0#32
  | 73 => 0xBDA5D8FD#32
  | 74 => 0xBEE8D6F8#32
  | 75 => 0x3F955791#32
  | 76 => 0x3E92EC4C#32
  | 77 => 0xBF6C4498#32
  | 78 => 0xBF679D90#32
  | 79 => 0x3FB3F68D#32
  | 80 => 0xBEC1CB46#32
  | 81 => 0x3F81E531#32
  | 82 => 0xBF95E035#32
  | 83 => 0xBEC5DD7F#32
  | 84 => 0xBF4D6B69#32
  | 85 => 0x3EFCB612#32
  | 86 => 0x3FF1640E#32
  | 87 => 0x3FD75A90#32
  | 88 => 0x3D42D528#32
  | 89 => 0x400A3799#32
  | 90 => 0x3F741174#32
  | 91 => 0x3E602BE9#32
  | 92 => 0xBF37B520#32
  | 93 => 0x3EEF2318#32
  | 94 => 0xBC2EA4DE#32
  | 95 => 0xBFC1DCB5#32
  | 96 => 0xBF54CA80#32
  | 97 => 0xBF8414B4#32
  | 98 => 0x3FB5EF77#32
  | 99 => 0x3F83BE02#32
  | 100 => 0x40084D0B#32
  | 101 => 0xBF104B48#32
  | 102 => 0xBDBA3771#32
  | 103 => 0x407CD939#32
  | 104 => 0x3F3D6236#32
  | 105 => 0x4078CDB2#32
  | 106 => 0x3FBEF6C7#32
  | 107 => 0x3EA69092#32
  | 108 => 0x3F300E95#32
  | 109 => 0xBF817994#32
  | 110 => 0x3F763408#32
  | 111 => 0xBF8497CF#32
  | 112 => 0x3FCF60A6#32
  | 113 => 0x3F47E7DC#32
  | 114 => 0x3F9E1B85#32
  | 115 => 0x3FFD1E70#32
  | 116 => 0x3FB7D718#32
  | 117 => 0x3F0B00A6#32
  | 118 => 0x3FE43DA9#32
  | 119 => 0x3F0B0AB3#32
  | 120 => 0x3D5531AA#32
  | 121 => 0x3EF4BBE7#32
  | 122 => 0x3FF56F8C#32
  | 123 => 0xBF4AF4A0#32
  | 124 => 0xBF47156D#32
  | 125 => 0x3D822610#32
  | 126 => 0x3F5F05A8#32
  | 127 => 0xB986CB90#32
  | _ => 0#32

noncomputable abbrev lit0t0_163 (i : Nat) : BitVec 32 := match i % 128 with
  | 0 => 0x3E6C9F8D#32
  | 1 => 0xBD408C6A#32
  | 2 => 0x3F4E3E96#32
  | 3 => 0x3F990C13#32
  | 4 => 0x3FE4340A#32
  | 5 => 0x4028D735#32
  | 6 => 0x3C2AC915#32
  | 7 => 0xBE8274F4#32
  | 8 => 0x3F9A0102#32
  | 9 => 0xBDCFBD55#32
  | 10 => 0x3EEA4FF9#32
  | 11 => 0x3E1C02BA#32
  | 12 => 0xBF352439#32
  | 13 => 0x40A28B02#32
  | 14 => 0x4092075B#32
  | 15 => 0x3EFE2AD4#32
  | 16 => 0xBF4846BF#32
  | 17 => 0x3F296243#32
  | 18 => 0x3E1E7896#32
  | 19 => 0x3F7A057E#32
  | 20 => 0x4024AE4C#32
  | 21 => 0xBEF257A1#32
  | 22 => 0x3F7C2000#32
  | 23 => 0xBEA7C7E6#32
  | 24 => 0x3D6D0B8F#32
  | 25 => 0x3EB3057B#32
  | 26 => 0x3E241125#32
  | 27 => 0x3FE46544#32
  | 28 => 0xBF34B897#32
  | 29 => 0xBCCC78C5#32
  | 30 => 0x3A432A98#32
  | 31 => 0xBE140445#32
  | 32 => 0xBF37D3B4#32
  | 33 => 0xBF9B34ED#32
  | 34 => 0xBEAF7460#32
  | 35 => 0x3F99AAB7#32
  | 36 => 0x3F985DE1#32
  | 37 => 0xBF29F0BB#32
  | 38 => 0x3F724C7A#32
  | 39 => 0x3F6622AD#32
  | 40 => 0x3FA92C75#32
  | 41 => 0x400B2531#32
  | 42 => 0xBF815A30#32
  | 43 => 0x3E8F7A5C#32
  | 44 => 0xBF845673#32
  | 45 => 0x400C23C4#32
  | 46 => 0xBE8113C9#32
  | 47 => 0xBF199B14#32
  | 48 => 0x3F1F1186#32
  | 49 => 0x40174862#32
  | 50 => 0x4026D9A2#32
  | 51 => 0x4057A6CE#32
  | 52 => 0x3F6B7ECA#32
  | 53 => 0x3FCC9A6A#32
  | 54 => 0x3F918B6C#32
  | 55 => 0x3FC3F909#32
  | 56 => 0x3DA8E420#32
  | 57 => 0xBD10240C#32
  | 58 => 0x40495604#32
  | 59 => 0x40305060#32
  | 60 => 0xBE95C5AB#32
  | 61 => 0xBFC93C00#32
  | 62 => 0x3FBA4BA6#32
  | 63 => 0xBF7030EE#32
  | 64 => 0x3F4B7CDF#32
  | 65 => 0x3E208F80#32
  | 66 => 0x3F3C31B9#32
  | 67 => 0x3E575401#32
  | 68 => 0x3EB50CE8#32
  | 69 => 0x403B6350#32
  | 70 => 0x40407F4C#32
  | 71 => 0xBF1728C3#32
  | 72 => 0x3F2D737D#32
  | 73 => 0x3FD1EDD7#32
  | 74 => 0xBF6C8D0F#32
  | 75 => 0x3FBC36FA#32
  | 76 => 0x3EFD898E#32
  | 77 => 0x3F1745E7#32
  | 78 => 0x3F157831#32
  | 79 => 0xBEA80E3A#32
  | 80 => 0x3E55FC4D#32
  | 81 => 0xBE30FF55#32
  | 82 => 0xBFBDF70B#32
  | 83 => 0x3F7F2464#32
  | 84 => 0x3F9189C2#32
  | 85 => 0x3F72E2E4#32
  | 86 => 0x3EDE7C96#32
  | 87 => 0xBF370FEE#32
  | 88 => 0xBF4A83A2#32
  | 89 => 0x3E4CBB95#32
  | 90 => 0x408DF97B#32
  | 91 => 0xBD8443C5#32
  | 92 => 0xBF4D4104#32
  | 93 => 0xBF1C4DF6#32
  | 94 => 0x3F6B5440#32
  | 95 => 0xBDC280FA#32
  | 96 => 0x3F8D0623#32
  | 97 => 0xBF34DA22#32
  | 98 => 0x3F266793#32
  | 99 => 0x3FA22340#32
  | 100 => 0x3F4E89F8#32
  | 101 => 0xBF8881A1#32
  | 102 => 0x3E262083#32
  | 103 => 0x4021F588#32
  | 104 => 0xBEE4D6B7#32
  | 105 => 0x3ECE049A#32
  | 106 => 0x40A1EFFE#32
  | 107 => 0xBEC801B1#32
  | 108 => 0x3ED3DB1F#32
  | 109 => 0x3FB45B6B#32
  | 110 => 0x3F1A6543#32
  | 111 => 0x3F6868BE#32
  | 112 => 0xBEBD20FF#32
  | 113 => 0xBF2356E3#32
  | 114 => 0x3F0F5B37#32
  | 115 => 0xBEE56BE9#32
  | 116 => 0x401EAB7E#32
  | 117 => 0x3E8EA7C0#32
  | 118 => 0x3FE5143B#32
  | 119 => 0xBE89E681#32
  | 120 => 0x3F1567A1#32
  | 121 => 0x3E9C9CCE#32
  | 122 => 0xBF0D76A7#32
  | 123 => 0xBFA91E70#32
  | 124 => 0xBEED4128#32
  | 125 => 0x3FBF2D75#32
  | 126 => 0x3FDE606D#32
  | 127 => 0x401DFC0D#32
  | _ => 0#32

noncomputable abbrev lit0t0_164 (i : Nat) : BitVec 32 := match i % 128 with
  | 0 => 0x402FADD4#32
  | 1 => 0x4049BF28#32
  | 2 => 0xBEC34C90#32
  | 3 => 0xBF4B5D04#32
  | 4 => 0xBDB7CF5F#32
  | 5 => 0xBF24CB60#32
  | 6 => 0x400EAAC2#32
  | 7 => 0x3EDF8F89#32
  | 8 => 0x3F29E724#32
  | 9 => 0xBE7DA7B0#32
  | 10 => 0x3EB6336D#32
  | 11 => 0xBF0446F7#32
  | 12 => 0x3E5BCA8D#32
  | 13 => 0xBF82A3F2#32
  | 14 => 0x3F5863E6#32
  | 15 => 0x3DD01F30#32
  | 16 => 0xBF588134#32
  | 17 => 0xBDBC1B7F#32
  | 18 => 0xBE578140#32
  | 19 => 0x3F6EE43B#32
  | 20 => 0x3EFF9A0C#32
  | 21 => 0x3ED5E0F2#32
  | 22 => 0xBF0BBC65#32
  | 23 => 0x3FD1F306#32
  | 24 => 0xBFC0D34A#32
  | 25 => 0x3F91556C#32
  | 26 => 0xBF77B6B8#32
  | 27 => 0xC000B698#32
  | 28 => 0x3F91F4A6#32
  | 29 => 0x40236EFB#32
  | 30 => 0x3F1C00CC#32
  | 31 => 0x3FE4EE8B#32
  | 32 => 0x3FAB065E#32
  | 33 => 0x3F41EBA2#32
  | 34 => 0xBED00441#32
  | 35 => 0x3F1B5BD8#32
  | 36 => 0x3FB69C62#32
  | 37 => 0xBD7B210B#32
  | 38 => 0xBE13D2B9#32
  | 39 => 0x3FA57914#32
  | 40 => 0xBF849338#32
  | 41 => 0x3F4A6512#32
  | 42 => 0x403971AF#32
  | 43 => 0xBF77DBA0#32
  | 44 => 0x4003C83E#32
  | 45 => 0x405CA66D#32
  | 46 => 0xBEC06CED#32
  | 47 => 0x3DCDCC03#32
  | 48 => 0x407E5A8F#32
  | 49 => 0x3FB27C11#32
  | 50 => 0x3F910963#32
  | 51 => 0xBFB53B32#32
  | 52 => 0x3E6758EF#32
  | 53 => 0x3EF059F3#32
  | 54 => 0x4024B59F#32
  | 55 => 0x3ED0B75E#32
  | 56 => 0x3F38DE7C#32
  | 57 => 0x3E2C5BD3#32
  | 58 => 0x3B42F62B#32
  | 59 => 0xBF25726B#32
  | 60 => 0x3F18372A#32
  | 61 => 0x3F0E62F5#32
  | 62 => 0x3E93CA33#32
  | 63 => 0x3FAA0101#32
  | 64 => 0xBEFE9AF2#32
  | 65 => 0xBEB3991B#32
  | 66 => 0xBFBC44AD#32
  | 67 => 0xBF191800#32
  | 68 => 0xBE7421B1#32
  | 69 => 0xBF723D66#32
  | 70 => 0x3F9C234E#32
  | 71 => 0xBF31A00C#32
  | 72 => 0x3EF84BC7#32
  | 73 => 0xBFAF0576#32
  | 74 => 0xBFEA9008#32
  | 75 => 0x3FB6EBAC#32
  | 76 => 0xBF527660#32
  | 77 => 0x3F18F03B#32
  | 78 => 0x40508B91#32
  | 79 => 0xBF5484E0#32
  | 80 => 0x406F6C11#32
  | 81 => 0xBD1FAEF5#32
  | 82 => 0x3D7D87F0#32
  | 83 => 0x3DF6FA41#32
  | 84 => 0xBF06E9F1#32
  | 85 => 0xBF93432C#32
  | 86 => 0xBE83F0EA#32
  | 87 => 0x3F4624A7#32
  | 88 => 0x3F928B94#32
  | 89 => 0x3F3DD7F1#32
  | 90 => 0xBECC0ED5#32
  | 91 => 0x3F0EB82E#32
  | 92 => 0x3F2DE714#32
  | 93 => 0xBFA44EE9#32
  | 94 => 0x3EB7A157#32
  | 95 => 0xBF41C763#32
  | 96 => 0x4064F2EA#32
  | 97 => 0xBEC11D09#32
  | 98 => 0x3F18B179#32
  | 99 => 0xBEC69D49#32
  | 100 => 0x3F4A1403#32
  | 101 => 0x3F9EE418#32
  | 102 => 0xBE9FD044#32
  | 103 => 0xBFA71821#32
  | 104 => 0x3F972042#32
  | 105 => 0x3F8310D8#32
  | 106 => 0xBF9D6467#32
  | 107 => 0x3E79FEE7#32
  | 108 => 0x3F026BA2#32
  | 109 => 0x3E9EFF1F#32
  | 110 => 0xBF95CE3E#32
  | 111 => 0x3F12696D#32
  | 112 => 0x3E4E1434#32
  | 113 => 0x3D08F449#32
  | 114 => 0x3F3A5B8A#32
  | 115 => 0x3FCE9DA6#32
  | 116 => 0xBF712188#32
  | 117 => 0x405F8BC7#32
  | 118 => 0x3F3B8DB4#32
  | 119 => 0xBF86D48B#32
  | 120 => 0xBC6637FD#32
  | 121 => 0x3FE2D84C#32
  | 122 => 0xBF4BC224#32
  | 123 => 0xBEBD5FEE#32
  | 124 => 0x3F073A60#32
  | 125 => 0xBEBFF329#32
  | 126 => 0x3E10FBAF#32
  | 127 => 0x3F1D78B1#32
  | _ => 0#32

noncomputable abbrev lit0t0_165 (i : Nat) : BitVec 32 := match i % 128 with
  | 0 => 0x3F32942E#32
  | 1 => 0x3ED8ECDE#32
  | 2 => 0x3ED23236#32
  | 3 => 0xBEA89551#32
  | 4 => 0x3FD21B06#32
  | 5 => 0x405397B9#32
  | 6 => 0x3EE9547E#32
  | 7 => 0xBF41A647#32
  | 8 => 0xBF2B576B#32
  | 9 => 0x401CBE21#32
  | 10 => 0xBC805A3D#32
  | 11 => 0xBF27F081#32
  | 12 => 0x3F077548#32
  | 13 => 0x3D4EDFEE#32
  | 14 => 0x3E7F7A60#32
  | 15 => 0x3F38F18C#32
  | 16 => 0xBEA029DF#32
  | 17 => 0xBE49432E#32
  | 18 => 0x3F135204#32
  | 19 => 0x3F022A38#32
  | 20 => 0xBF89DB11#32
  | 21 => 0x400430A2#32
  | 22 => 0x3F4BD05A#32
  | 23 => 0x400A379D#32
  | 24 => 0x4001CFE8#32
  | 25 => 0x3F6938EB#32
  | 26 => 0x3EAF6F98#32
  | 27 => 0xBE83F3A5#32
  | 28 => 0xBF7EEFCA#32
  | 29 => 0xBF8F825C#32
  | 30 => 0x3F83D264#32
  | 31 => 0xBF1C0CCC#32
  | 32 => 0xBF911584#32
  | 33 => 0x4008732A#32
  | 34 => 0xBF8FFC7C#32
  | 35 => 0xBE2AC1A4#32
  | 36 => 0x3FBD6E69#32
  | 37 => 0x3F13F918#32
  | 38 => 0xBF239682#32
  | 39 => 0xBF2E6A13#32
  | 40 => 0x3EDD1187#32
  | 41 => 0x3F03437C#32
  | 42 => 0x3F8D7523#32
  | 43 => 0xBE8CA9B4#32
  | 44 => 0xBF292AD7#32
  | 45 => 0x40114071#32
  | 46 => 0x3D9BF759#32
  | 47 => 0x402E113D#32
  | 48 => 0x3FA58673#32
  | 49 => 0x3F98C789#32
  | 50 => 0xBF0D376C#32
  | 51 => 0x40C9CDEE#32
  | 52 => 0x3FA5CB09#32
  | 53 => 0x3FE62A80#32
  | 54 => 0x3F0C6574#32
  | 55 => 0xBED2926B#32
  | 56 => 0x3EE28573#32
  | 57 => 0x408D9871#32
  | 58 => 0x4052650C#32
  | 59 => 0x3F1D86CE#32
  | 60 => 0xBE996F19#32
  | 61 => 0x3FCA915A#32
  | 62 => 0x3FAC275B#32
  | 63 => 0x3E5B7874#32
  | 64 => 0xBF3BCFB9#32
  | 65 => 0x3E57317D#32
  | 66 => 0x3ED564E0#32
  | 67 => 0xBF9AEEAF#32
  | 68 => 0xBD0A8684#32
  | 69 => 0x3F84EF46#32
  | 70 => 0xBF90CCB2#32
  | 71 => 0x3E70AD7B#32
  | 72 => 0xBF490ED9#32
  | 73 => 0xBFA42232#32
  | 74 => 0x3E59E857#32
  | 75 => 0xBE4AD03C#32
  | 76 => 0x3CC57DCE#32
  | 77 => 0xBF9B634B#32
  | 78 => 0x3E5B78CD#32
  | 79 => 0x3DFDB11F#32
  | 80 => 0x400F4242#32
  | 81 => 0x406408D9#32
  | 82 => 0xBF0243E4#32
  | 83 => 0xBE19E9EE#32
  | 84 => 0x406305B3#32
  | 85 => 0x3F72CF47#32
  | 86 => 0xBFC17ACE#32
  | 87 => 0x3FA0277D#32
  | 88 => 0x3EA529A1#32
  | 89 => 0xBF40B270#32
  | 90 => 0x3DACB7F7#32
  | 91 => 0xBF222A06#32
  | 92 => 0xBF218016#32
  | 93 => 0xBE0993F4#32
  | 94 => 0xBDD807DA#32
  | 95 => 0x3FFDC7AD#32
  | 96 => 0x40035FA7#32
  | 97 => 0x3F8204B6#32
  | 98 => 0x3F0E06E2#32
  | 99 => 0x3F9CEAD3#32
  | 100 => 0x400DE503#32
  | 101 => 0x3F593BF6#32
  | 102 => 0x4022312B#32
  | 103 => 0xBE58524E#32
  | 104 => 0x400C8CF2#32
  | 105 => 0xBDA50AE5#32
  | 106 => 0xBFC95936#32
  | 107 => 0xBDC1A836#32
  | 108 => 0x3F36B635#32
  | 109 => 0x3ECAAC3B#32
  | 110 => 0x3EE37985#32
  | 111 => 0x402DFF94#32
  | 112 => 0x3D9FCDA2#32
  | 113 => 0x3F5FA8FF#32
  | 114 => 0xBEB4F6E1#32
  | 115 => 0xBF13E0D9#32
  | 116 => 0x3EC94B5B#32
  | 117 => 0x3ED670AD#32
  | 118 => 0x3F0320BA#32
  | 119 => 0xBE44CF88#32
  | 120 => 0x4079D43C#32
  | 121 => 0x3FAF7139#32
  | 122 => 0x3E7FDE7A#32
  | 123 => 0x3F969F19#32
  | 124 => 0xBF9B5E62#32
  | 125 => 0xBF3AE6AC#32
  | 126 => 0x409A11DA#32
  | 127 => 0xBE7CBD62#32
  | _ => 0#32

noncomputable abbrev lit0t0_166 (i : Nat) : BitVec 32 := match i % 128 with
  | 0 => 0x3FE1E572#32
  | 1 => 0x3EC94C72#32
  | 2 => 0x3F65726B#32
  | 3 => 0xBF9F445A#32
  | 4 => 0x3E12EBA0#32
  | 5 => 0x3E8A6BEB#32
  | 6 => 0x3F2697B4#32
  | 7 => 0xBE9D2AAC#32
  | 8 => 0xBE8FD104#32
  | 9 => 0xBF8962D0#32
  | 10 => 0x3F574CBB#32
  | 11 => 0xBD68B6A1#32
  | 12 => 0xBE252CA4#32
  | 13 => 0xBF5E3299#32
  | 14 => 0x3E8B4F32#32
  | 15 => 0xBFCA0284#32
  | 16 => 0x3F570F3D#32
  | 17 => 0x3FFC3F34#32
  | 18 => 0xBC68C7A8#32
  | 19 => 0x3F602394#32
  | 20 => 0x3F97DEBA#32
  | 21 => 0x4037A794#32
  | 22 => 0x3FD29FED#32
  | 23 => 0xBEC988DD#32
  | 24 => 0x3F51CAF8#32
  | 25 => 0xBF0AA352#32
  | 26 => 0x3DA7C335#32
  | 27 => 0x3F6232AB#32
  | 28 => 0x3FCBA762#32
  | 29 => 0x402E36BC#32
  | 30 => 0x4092DF93#32
  | 31 => 0xBDA3B138#32
  | 32 => 0x3E92B294#32
  | 33 => 0xBE6DD4A0#32
  | 34 => 0x4030EAF7#32
  | 35 => 0x3FAEF271#32
  | 36 => 0xBDB23E61#32
  | 37 => 0xBF0C6451#32
  | 38 => 0x40191120#32
  | 39 => 0x40388F67#32
  | 40 => 0x3F84C2D0#32
  | 41 => 0x3F8A86CA#32
  | 42 => 0x3F7CB1B2#32
  | 43 => 0x40023500#32
  | 44 => 0x3ED7C21A#32
  | 45 => 0xBFB07582#32
  | 46 => 0xBD1F47EC#32
  | 47 => 0x4005F957#32
  | 48 => 0x3FB0BB92#32
  | 49 => 0xBF97940A#32
  | 50 => 0xBFAD1C9A#32
  | 51 => 0x3E51E644#32
  | 52 => 0x3E94D4B8#32
  | 53 => 0x407B9CE1#32
  | 54 => 0x3DCE9AEC#32
  | 55 => 0xBF5C8BE4#32
  | 56 => 0x3F01CD17#32
  | 57 => 0xBF836133#32
  | 58 => 0x3FAA52BF#32
  | 59 => 0xBF82A513#32
  | 60 => 0x3BDE684A#32
  | 61 => 0x3D632479#32
  | 62 => 0x3FC4D4A7#32
  | 63 => 0xBF238B9F#32
  | 64 => 0xBD8E7EBF#32
  | 65 => 0x3CB9F1AD#32
  | 66 => 0x3D5D10B4#32
  | 67 => 0xBE8B9288#32
  | 68 => 0x3FA5ED86#32
  | 69 => 0x3F4524FE#32
  | 70 => 0x4010F9E6#32
  | 71 => 0x3F2E7015#32
  | 72 => 0x3FD4AD67#32
  | 73 => 0x3F21F49A#32
  | 74 => 0xBF141739#32
  | 75 => 0xBF5C474E#32
  | 76 => 0x3F028691#32
  | 77 => 0x4018E10A#32
  | 78 => 0xBD8D1A4C#32
  | 79 => 0x3FA2A9F6#32
  | 80 => 0xBF1394B7#32
  | 81 => 0x405679E5#32
  | 82 => 0xBB39F069#32
  | 83 => 0xBFBD3F6C#32
  | 84 => 0x3F554B60#32
  | 85 => 0x3FF551F2#32
  | 86 => 0x405254EF#32
  | 87 => 0xBEA219DC#32
  | 88 => 0xBF031920#32
  | 89 => 0x3F8E80D0#32
  | 90 => 0x406C068C#32
  | 91 => 0x403485D5#32
  | 92 => 0x3E9E6973#32
  | 93 => 0x3F2F70C0#32
  | 94 => 0xBFC31F90#32
  | 95 => 0x3DF222BD#32
  | 96 => 0x3FEC1238#32
  | 97 => 0xBD8E1A49#32
  | 98 => 0x3FD47590#32
  | 99 => 0x3F566998#32
  | 100 => 0x3F4D462E#32
  | 101 => 0xBE8A59DE#32
  | 102 => 0xBEB12342#32
  | 103 => 0x3FD9095A#32
  | 104 => 0x3F3855F0#32
  | 105 => 0x3F25DFC8#32
  | 106 => 0x3E3BECA1#32
  | 107 => 0x3F9A3C23#32
  | 108 => 0xBE554157#32
  | 109 => 0x3F9998F9#32
  | 110 => 0x3FA4BD91#32
  | 111 => 0x3F3ECEAC#32
  | 112 => 0x3E353E22#32
  | 113 => 0x3EE1655E#32
  | 114 => 0x40050E5B#32
  | 115 => 0xBD38D289#32
  | 116 => 0x3E7AB6A0#32
  | 117 => 0x3F0C4730#32
  | 118 => 0xBF551FCB#32
  | 119 => 0x3EC549E9#32
  | 120 => 0x3EF0129C#32
  | 121 => 0x3F44EF7E#32
  | 122 => 0xBF2F08D2#32
  | 123 => 0x3F2DAC7A#32
  | 124 => 0xBECF4708#32
  | 125 => 0xBFB5AB83#32
  | 126 => 0xBED577D2#32
  | 127 => 0x3F8AC10D#32
  | _ => 0#32

noncomputable abbrev lit0t0_167 (i : Nat) : BitVec 32 := match i % 128 with
  | 0 => 0x3F46CF38#32
  | 1 => 0x400BB4F4#32
  | 2 => 0x401AFC02#32
  | 3 => 0x3E9C6294#32
  | 4 => 0x3F6CE633#32
  | 5 => 0x3F7B04BC#32
  | 6 => 0x3D575E5A#32
  | 7 => 0x3F04A1CC#32
  | 8 => 0x3F4BB64D#32
  | 9 => 0xBE4BDCD4#32
  | 10 => 0x3F003321#32
  | 11 => 0xBE059039#32
  | 12 => 0x3F4572CB#32
  | 13 => 0xBF75EC4D#32
  | 14 => 0x4057217C#32
  | 15 => 0x3DE7306C#32
  | 16 => 0x40329633#32
  | 17 => 0x3DAF14B2#32
  | 18 => 0x3F2EB5E3#32
  | 19 => 0x4014193F#32
  | 20 => 0x3F918993#32
  | 21 => 0xBE0CC5B0#32
  | 22 => 0xBE648778#32
  | 23 => 0x4006F992#32
  | 24 => 0x409486CD#32
  | 25 => 0x3FBE6DB7#32
  | 26 => 0xBF512822#32
  | 27 => 0x3E8656EF#32
  | 28 => 0x3FF9B463#32
  | 29 => 0x3EEA60AA#32
  | 30 => 0x4000E76C#32
  | 31 => 0x3F2C6936#32
  | 32 => 0xBF5172F2#32
  | 33 => 0x3CF455DB#32
  | 34 => 0xBF48DEDF#32
  | 35 => 0xBEC2BB83#32
  | 36 => 0x402B1FD5#32
  | 37 => 0x3E08DC27#32
  | 38 => 0xBF70AA71#32
  | 39 => 0x407DF5A0#32
  | 40 => 0x400DD48C#32
  | 41 => 0xBE950CD6#32
  | 42 => 0x3E9D1D5C#32
  | 43 => 0xBE953590#32
  | 44 => 0x3F85D128#32
  | 45 => 0x3F9F8629#32
  | 46 => 0x3EB9E04A#32
  | 47 => 0x3F914758#32
  | 48 => 0x3EC22218#32
  | 49 => 0x3E7B220C#32
  | 50 => 0x404541E7#32
  | 51 => 0x3F1882A8#32
  | 52 => 0x3F3E8CE1#32
  | 53 => 0x3F78989B#32
  | 54 => 0x3F74B76C#32
  | 55 => 0x3F79BEB0#32
  | 56 => 0x3FBA4C43#32
  | 57 => 0x3FD79B5E#32
  | 58 => 0xBF8E5516#32
  | 59 => 0xBF037098#32
  | 60 => 0xBECE370D#32
  | 61 => 0x402C572E#32
  | 62 => 0x3E5EE19F#32
  | 63 => 0x3E1AF4E2#32
  | 64 => 0xBF9DE731#32
  | 65 => 0xBEF1A990#32
  | 66 => 0xBEA0C469#32
  | 67 => 0xBDE58210#32
  | 68 => 0x3EBB34A2#32
  | 69 => 0x3F7C6D20#32
  | 70 => 0xBE6AAD50#32
  | 71 => 0xBF0895CA#32
  | 72 => 0x3F23C051#32
  | 73 => 0x3F1FFA45#32
  | 74 => 0x3FA0DCC8#32
  | 75 => 0x40022535#32
  | 76 => 0x3F56E8D1#32
  | 77 => 0x403DD9D7#32
  | 78 => 0x3F48C038#32
  | 79 => 0x3D096EB1#32
  | 80 => 0xBEEEE9C9#32
  | 81 => 0xBFA7DC4D#32
  | 82 => 0x4008C3AF#32
  | 83 => 0x3D819044#32
  | 84 => 0x3E74A1F0#32
  | 85 => 0xBF1D4EEC#32
  | 86 => 0x3FCE08AA#32
  | 87 => 0x40134E9D#32
  | 88 => 0x3EABB8B0#32
  | 89 => 0x3FD0DAFA#32
  | 90 => 0x3FEB637A#32
  | 91 => 0x3EDB3E6C#32
  | 92 => 0x3FA21088#32
  | 93 => 0x4017D734#32
  | 94 => 0x40479C26#32
  | 95 => 0x3E52BB92#32
  | 96 => 0x3F817799#32
  | 97 => 0x3F3FC5BC#32
  | 98 => 0x3FD4F821#32
  | 99 => 0x3E871D1D#32
  | 100 => 0x3FE035BE#32
  | 101 => 0xBD199329#32
  | 102 => 0x3F265E85#32
  | 103 => 0x401C9400#32
  | 104 => 0xBE503BB2#32
  | 105 => 0x3DDB4EA6#32
  | 106 => 0x3EB56D1C#32
  | 107 => 0x3FBC9550#32
  | 108 => 0x3F87D42D#32
  | 109 => 0x3EC2262C#32
  | 110 => 0xBDB29B78#32
  | 111 => 0x3F631F2B#32
  | 112 => 0x40820CAD#32
  | 113 => 0x3F5EECD7#32
  | 114 => 0x3E545D2C#32
  | 115 => 0xBF0EC56E#32
  | 116 => 0xBE5E16C4#32
  | 117 => 0x3F927843#32
  | 118 => 0x3FB0C6E2#32
  | 119 => 0x3E4AF387#32
  | 120 => 0x3FB1224F#32
  | 121 => 0xBCA6BB2D#32
  | 122 => 0xBF4384A2#32
  | 123 => 0x4005D12A#32
  | 124 => 0xBC9B42B5#32
  | 125 => 0x3FD7C08A#32
  | 126 => 0xBE1B8A0E#32
  | 127 => 0x3FBC7697#32
  | _ => 0#32

noncomputable abbrev lit0t0_168 (i : Nat) : BitVec 32 := match i % 128 with
  | 0 => 0x40720EB4#32
  | 1 => 0xBEDBCC34#32
  | 2 => 0x3FD70EF2#32
  | 3 => 0x3FA530C4#32
  | 4 => 0x400D3BF0#32
  | 5 => 0xBE28ED8F#32
  | 6 => 0xBF29711E#32
  | 7 => 0x3FC4F103#32
  | 8 => 0x3F0526D7#32
  | 9 => 0xBFD05BE2#32
  | 10 => 0xBF4060AF#32
  | 11 => 0xBE9FDB4E#32
  | 12 => 0x3E809B87#32
  | 13 => 0x3F316F5E#32
  | 14 => 0x3FDF327E#32
  | 15 => 0x3D6E0B26#32
  | 16 => 0x3D8E9FD1#32
  | 17 => 0xBE0CCB1B#32
  | 18 => 0xBEC95B34#32
  | 19 => 0x3F96500D#32
  | 20 => 0x3E96DCC8#32
  | 21 => 0x3F16FA59#32
  | 22 => 0x3F1961F2#32
  | 23 => 0xBEFD249B#32
  | 24 => 0x3F83E4E0#32
  | 25 => 0x3E07A6F5#32
  | 26 => 0x3FDD2AF8#32
  | 27 => 0x3F17FB65#32
  | 28 => 0x3E4F4D70#32
  | 29 => 0x3EB09D5D#32
  | 30 => 0x3E84693C#32
  | 31 => 0x3F7F8BC4#32
  | 32 => 0xBFA865C0#32
  | 33 => 0x3EC099AE#32
  | 34 => 0xBE56B1B4#32
  | 35 => 0xBDFADA89#32
  | 36 => 0xBE32C3E2#32
  | 37 => 0x3F375A12#32
  | 38 => 0x3FFFBE6B#32
  | 39 => 0x40092736#32
  | 40 => 0xBDEDC4B6#32
  | 41 => 0xBF8F3F34#32
  | 42 => 0x3F2C75FD#32
  | 43 => 0xBFA53FF2#32
  | 44 => 0x3FB49035#32
  | 45 => 0x40CE6C89#32
  | 46 => 0xBED7E515#32
  | 47 => 0x40BFD34F#32
  | 48 => 0x3F7C955F#32
  | 49 => 0x3E94B78A#32
  | 50 => 0x3E694C6B#32
  | 51 => 0x400344CF#32
  | 52 => 0x3EF33EAE#32
  | 53 => 0x4018AE44#32
  | 54 => 0xBE36128A#32
  | 55 => 0x3F881D67#32
  | 56 => 0xBE4E518A#32
  | 57 => 0x3FCB329E#32
  | 58 => 0x3F15D09E#32
  | 59 => 0xBF13B8AA#32
  | 60 => 0x3EA83E7C#32
  | 61 => 0xBF8B207D#32
  | 62 => 0x3FC19910#32
  | 63 => 0x3E691510#32
  | 64 => 0x3F557700#32
  | 65 => 0xBF19E682#32
  | 66 => 0x401709E6#32
  | 67 => 0x3F0A6586#32
  | 68 => 0x3F57FC8E#32
  | 69 => 0x3F97707F#32
  | 70 => 0xBF564FEA#32
  | 71 => 0x40056313#32
  | 72 => 0x3F978DB6#32
  | 73 => 0x3E350F3C#32
  | 74 => 0x3FB16832#32
  | 75 => 0x400DAEDE#32
  | 76 => 0x3F768D47#32
  | 77 => 0xBE5E1CC7#32
  | 78 => 0x3F8C67C8#32
  | 79 => 0x3E0C0842#32
  | 80 => 0x3F929000#32
  | 81 => 0x407CC067#32
  | 82 => 0x400CA3B9#32
  | 83 => 0xBF001692#32
  | 84 => 0x400C6730#32
  | 85 => 0x3E9400AE#32
  | 86 => 0x3FE199DF#32
  | 87 => 0xBE879B53#32
  | 88 => 0x3DCECD53#32
  | 89 => 0x3F0F87DA#32
  | 90 => 0x3F313C80#32
  | 91 => 0x3ED7E65A#32
  | 92 => 0x3F2F3B77#32
  | 93 => 0x4004D39A#32
  | 94 => 0x3D9FB59C#32
  | 95 => 0x3E1FB1C7#32
  | 96 => 0xBF83E8FC#32
  | 97 => 0x3FF13794#32
  | 98 => 0x3F7492F5#32
  | 99 => 0xBEFCAED6#32
  | 100 => 0xBF97D72E#32
  | 101 => 0x3F5159AC#32
  | 102 => 0x3FB22105#32
  | 103 => 0x40B22331#32
  | 104 => 0x3C9220AB#32
  | 105 => 0xBF6A32A6#32
  | 106 => 0x400614F1#32
  | 107 => 0x3F6325B3#32
  | 108 => 0xBD32A229#32
  | 109 => 0xBF71EE26#32
  | 110 => 0x3EDD7647#32
  | 111 => 0xBEB28D12#32
  | 112 => 0xBE0C6753#32
  | 113 => 0x3F2B5052#32
  | 114 => 0x3E9E8254#32
  | 115 => 0x3FD0F7C4#32
  | 116 => 0x3FB027BC#32
  | 117 => 0x3E9C59C4#32
  | 118 => 0xBDED850B#32
  | 119 => 0x3E9D0E1F#32
  | 120 => 0xBF776F16#32
  | 121 => 0xBF19EEA8#32
  | 122 => 0xBE50D036#32
  | 123 => 0x3F94B31E#32
  | 124 => 0x3FB8FE0C#32
  | 125 => 0x4011BE74#32
  | 126 => 0x40350446#32
  | 127 => 0x3E2EC869#32
  | _ => 0#32

noncomputable abbrev lit0t0_169 (i : Nat) : BitVec 32 := match i % 128 with
  | 0 => 0x3E1AD442#32
  | 1 => 0x3F4A0E59#32
  | 2 => 0x3BD95D27#32
  | 3 => 0x3FEEED6A#32
  | 4 => 0x3F428511#32
  | 5 => 0x3F1FA281#32
  | 6 => 0x3FA217C4#32
  | 7 => 0xBE798918#32
  | 8 => 0xBF95E756#32
  | 9 => 0x3D66A9A3#32
  | 10 => 0x3E1D31DB#32
  | 11 => 0x3F0BCA43#32
  | 12 => 0x40044F37#32
  | 13 => 0xBFA00788#32
  | 14 => 0xBFB0C51A#32
  | 15 => 0xBF083E76#32
  | 16 => 0xBEF6D582#32
  | 17 => 0xBF1A440C#32
  | 18 => 0x3F69DA62#32
  | 19 => 0x3F92E86C#32
  | 20 => 0xBF4C9A72#32
  | 21 => 0xBF2A1DA8#32
  | 22 => 0xBE84F522#32
  | 23 => 0x3F872AE0#32
  | 24 => 0xBE0C5AE6#32
  | 25 => 0x3F886733#32
  | 26 => 0x403C3CF0#32
  | 27 => 0x3F61EB5C#32
  | 28 => 0x3DFC9EC8#32
  | 29 => 0xBF7D1852#32
  | 30 => 0xBEFD65EE#32
  | 31 => 0xBE5BF93C#32
  | 32 => 0xBE8E3154#32
  | 33 => 0x403A204B#32
  | 34 => 0xBDF3A76B#32
  | 35 => 0xBE3A34BA#32
  | 36 => 0xBE3398F3#32
  | 37 => 0x3FA67126#32
  | 38 => 0xBE809652#32
  | 39 => 0x3F1ABC41#32
  | 40 => 0x406A954F#32
  | 41 => 0x3F0349A8#32
  | 42 => 0x3F2686CC#32
  | 43 => 0x3F3AC3F8#32
  | 44 => 0x3DC6D95B#32
  | 45 => 0x3E1F5685#32
  | 46 => 0x3CA39702#32
  | 47 => 0x3F0C515C#32
  | 48 => 0xBE4C300B#32
  | 49 => 0x3FAC6270#32
  | 50 => 0x3F3B504B#32
  | 51 => 0xBFC3D0B5#32
  | 52 => 0xBEB9D53F#32
  | 53 => 0x3DDD288F#32
  | 54 => 0xBEF21C50#32
  | 55 => 0x40BE8239#32
  | 56 => 0x401DB04D#32
  | 57 => 0x3FF7DC1C#32
  | 58 => 0x3F29F5D8#32
  | 59 => 0xBEF28293#32
  | 60 => 0xBF43B04C#32
  | 61 => 0xBF766B3C#32
  | 62 => 0x400D4686#32
  | 63 => 0xBFA80F59#32
  | 64 => 0xBF7398D8#32
  | 65 => 0x3E8DAC23#32
  | 66 => 0x3E2F5312#32
  | 67 => 0x403A2460#32
  | 68 => 0x3E8891C1#32
  | 69 => 0xBF30A22A#32
  | 70 => 0x3FED196C#32
  | 71 => 0xBED3F20D#32
  | 72 => 0x3F39C9B4#32
  | 73 => 0x3E6AFCB1#32
  | 74 => 0x3FF63FDA#32
  | 75 => 0xBF62674B#32
  | 76 => 0xBF88C1B5#32
  | 77 => 0xBE71BC79#32
  | 78 => 0x3DBF7FDC#32
  | 79 => 0x3FC4483B#32
  | 80 => 0xBEA45AED#32
  | 81 => 0x3ED16719#32
  | 82 => 0x3F98F985#32
  | 83 => 0x3E818294#32
  | 84 => 0xBD2251A8#32
  | 85 => 0x3FACF92E#32
  | 86 => 0x3F443D09#32
  | 87 => 0x3D579A90#32
  | 88 => 0x3FE85C52#32
  | 89 => 0xBF4411D1#32
  | 90 => 0xBF112DD3#32
  | 91 => 0x3FBEE924#32
  | 92 => 0x3F313819#32
  | 93 => 0xBF3EEEC5#32
  | 94 => 0x3F5304AD#32
  | 95 => 0x3EE009D6#32
  | 96 => 0x404F6C6D#32
  | 97 => 0xBEB71624#32
  | 98 => 0xBF665AEA#32
  | 99 => 0x3F99C47A#32
  | 100 => 0xBE2721F4#32
  | 101 => 0x3F7DD25E#32
  | 102 => 0x3FE6F950#32
  | 103 => 0x4031EE26#32
  | 104 => 0x4021FE16#32
  | 105 => 0xBE73E165#32
  | 106 => 0x3F54CC2C#32
  | 107 => 0x3F8C7FBC#32
  | 108 => 0x3E615DC8#32
  | 109 => 0xBEE50489#32
  | 110 => 0x3F924632#32
  | 111 => 0xBF93A235#32
  | 112 => 0x3F92332D#32
  | 113 => 0x3FC09DB7#32
  | 114 => 0x3FF741FD#32
  | 115 => 0xBD40CCB1#32
  | 116 => 0x3F27D35A#32
  | 117 => 0x3E32B860#32
  | 118 => 0xBFB365D0#32
  | 119 => 0x3F774102#32
  | 120 => 0x3FA4B718#32
  | 121 => 0xBE8DDD0E#32
  | 122 => 0x3ED37728#32
  | 123 => 0xBF82D1D5#32
  | 124 => 0xBF2520E0#32
  | 125 => 0x40230AD5#32
  | 126 => 0xBF1DB102#32
  | 127 => 0x3E116633#32
  | _ => 0#32

noncomputable abbrev lit0t0_170 (i : Nat) : BitVec 32 := match i % 128 with
  | 0 => 0x3E351216#32
  | 1 => 0x3EA4EC87#32
  | 2 => 0x3FBE3617#32
  | 3 => 0xBE61CC95#32
  | 4 => 0x3FB7B9A4#32
  | 5 => 0x3F058220#32
  | 6 => 0xBD4105EE#32
  | 7 => 0x3E8DE715#32
  | 8 => 0x403C8EAB#32
  | 9 => 0xBF5CBE12#32
  | 10 => 0x3C94668A#32
  | 11 => 0x3FE0C738#32
  | 12 => 0xBF60A7C1#32
  | 13 => 0x3FCD236C#32
  | 14 => 0xBE5AB8A8#32
  | 15 => 0xBEFC6CD6#32
  | 16 => 0xBF51AB6C#32
  | 17 => 0xBE8E6A73#32
  | 18 => 0x3F7C12B8#32
  | 19 => 0x3F557CE2#32
  | 20 => 0x3D56BD0A#32
  | 21 => 0x40098A03#32
  | 22 => 0xBF1602AF#32
  | 23 => 0x4051A45B#32
  | 24 => 0x3F35AEEC#32
  | 25 => 0x40A3EF69#32
  | 26 => 0x3FA16532#32
  | 27 => 0xBF92A1B6#32
  | 28 => 0x3E76987C#32
  | 29 => 0xBFA654A5#32
  | 30 => 0x3F7405C4#32
  | 31 => 0xBCBBD0D8#32
  | 32 => 0xBFC10F0C#32
  | 33 => 0xBF94544A#32
  | 34 => 0xBEFAA6B7#32
  | 35 => 0x3FA16148#32
  | 36 => 0x3DCE77F2#32
  | 37 => 0xBED7F10B#32
  | 38 => 0x3EA34B57#32
  | 39 => 0x3E824FBA#32
  | 40 => 0x40379567#32
  | 41 => 0xBF88BE22#32
  | 42 => 0xBFB03882#32
  | 43 => 0x3ED0958F#32
  | 44 => 0x3F5158FB#32
  | 45 => 0x4003A5F1#32
  | 46 => 0x3F3C6C31#32
  | 47 => 0x3F29CD99#32
  | 48 => 0xBF2B07C7#32
  | 49 => 0xBF7C7BA4#32
  | 50 => 0x4092A784#32
  | 51 => 0xBF77FB79#32
  | 52 => 0xBEDEF57A#32
  | 53 => 0xBFAD2461#32
  | 54 => 0x3F163F1E#32
  | 55 => 0x3EC24F74#32
  | 56 => 0x404AD75A#32
  | 57 => 0xBD240C69#32
  | 58 => 0xBDFEB67F#32
  | 59 => 0x3F4A5A02#32
  | 60 => 0x3F88E823#32
  | 61 => 0xBFDB006F#32
  | 62 => 0x3F482F5F#32
  | 63 => 0xBFB966F7#32
  | 64 => 0x3E625E4B#32
  | 65 => 0x3F9BFFCA#32
  | 66 => 0x3F5CA5E5#32
  | 67 => 0xBFAAD5B9#32
  | 68 => 0x3D934958#32
  | 69 => 0xBF4AE18F#32
  | 70 => 0x3F91BD9C#32
  | 71 => 0x3F7FCBF5#32
  | 72 => 0x3F3215BA#32
  | 73 => 0x3FC70E1B#32
  | 74 => 0x400D6DF9#32
  | 75 => 0x3FAD0BE9#32
  | 76 => 0x3F8199ED#32
  | 77 => 0x3F7BCB9D#32
  | 78 => 0x3E858905#32
  | 79 => 0x3D816638#32
  | 80 => 0x3F850086#32
  | 81 => 0x3FCCC8CA#32
  | 82 => 0x40090AD4#32
  | 83 => 0x403B514C#32
  | 84 => 0xBC8058C3#32
  | 85 => 0x3EDDED5A#32
  | 86 => 0x3DD7959E#32
  | 87 => 0x3FDF5F31#32
  | 88 => 0xBEBD3B63#32
  | 89 => 0x3F7AA041#32
  | 90 => 0xBF186F49#32
  | 91 => 0xBDB625C7#32
  | 92 => 0x3E62B3A3#32
  | 93 => 0x3F2674BC#32
  | 94 => 0x3FF09003#32
  | 95 => 0xBF3C6F04#32
  | 96 => 0x40349216#32
  | 97 => 0xBED54052#32
  | 98 => 0xBF76B7D4#32
  | 99 => 0x4084EDE1#32
  | 100 => 0x3EA87C25#32
  | 101 => 0x3F73008E#32
  | 102 => 0x4003020D#32
  | 103 => 0x3F916EC7#32
  | 104 => 0xBF4C5A73#32
  | 105 => 0xBE10ABE5#32
  | 106 => 0x403F7D41#32
  | 107 => 0xBC7C02C8#32
  | 108 => 0x3F59B897#32
  | 109 => 0x400D896D#32
  | 110 => 0xBEAE0088#32
  | 111 => 0x3C2E3C96#32
  | 112 => 0x3F8151E8#32
  | 113 => 0x4053B22A#32
  | 114 => 0xBECFC4F0#32
  | 115 => 0x3F011009#32
  | 116 => 0x3E657BD5#32
  | 117 => 0x3EADFC13#32
  | 118 => 0x3F083E56#32
  | 119 => 0x3F835AE5#32
  | 120 => 0x3EAF5895#32
  | 121 => 0x3FAAD982#32
  | 122 => 0x3FD9A2EC#32
  | 123 => 0x3FEFE951#32
  | 124 => 0x401130F6#32
  | 125 => 0xBF26AF3D#32
  | 126 => 0x3FC5A0C7#32
  | 127 => 0xBEFBDB12#32
  | _ => 0#32

noncomputable abbrev lit0t0_171 (i : Nat) : BitVec 32 := match i % 128 with
  | 0 => 0x3EC8D1E2#32
  | 1 => 0x3F7D273A#32
  | 2 => 0x3F0269BC#32
  | 3 => 0xBC2DCFA5#32
  | 4 => 0x40B063C9#32
  | 5 => 0xBE35993D#32
  | 6 => 0x405EBF0F#32
  | 7 => 0xBE560875#32
  | 8 => 0x3F9155D3#32
  | 9 => 0x3F8AC56C#32
  | 10 => 0x3E9C4FED#32
  | 11 => 0x3F50E50A#32
  | 12 => 0xBF97CD50#32
  | 13 => 0xBF06B33B#32
  | 14 => 0x3F1D7C4A#32
  | 15 => 0x3FF4C4F2#32
  | 16 => 0x3E033567#32
  | 17 => 0x3FBE4E6E#32
  | 18 => 0x3F90AE26#32
  | 19 => 0x3FA2A5A6#32
  | 20 => 0x3F135FBE#32
  | 21 => 0xBDBC4F09#32
  | 22 => 0x3F00680C#32
  | 23 => 0x40417595#32
  | 24 => 0x3F23D74E#32
  | 25 => 0xBEA93923#32
  | 26 => 0x3F99090C#32
  | 27 => 0xBF7689A6#32
  | 28 => 0x3F931F9A#32
  | 29 => 0x3FFE801F#32
  | 30 => 0xBF92A35B#32
  | 31 => 0xBF03DBCF#32
  | 32 => 0x3F0B7FDF#32
  | 33 => 0x3F1D4098#32
  | 34 => 0x3F27975F#32
  | 35 => 0x4041ABA4#32
  | 36 => 0x3FBB70AE#32
  | 37 => 0xBE7E0BCE#32
  | 38 => 0x3FB665A1#32
  | 39 => 0xBFACF24B#32
  | 40 => 0xBE9A0FCC#32
  | 41 => 0xBF063901#32
  | 42 => 0xBF900967#32
  | 43 => 0x40004842#32
  | 44 => 0xBFB03C22#32
  | 45 => 0xBF2F8571#32
  | 46 => 0x4063F419#32
  | 47 => 0x400BAB07#32
  | 48 => 0xBFBE8E3F#32
  | 49 => 0xBFB2D4B8#32
  | 50 => 0xBF830946#32
  | 51 => 0xBD8AE87C#32
  | 52 => 0x3F4AFA14#32
  | 53 => 0x3F9D4F45#32
  | 54 => 0x3E8816C6#32
  | 55 => 0x4067FF6E#32
  | 56 => 0xBEBBA40C#32
  | 57 => 0xBF310785#32
  | 58 => 0x3E5C09BB#32
  | 59 => 0x3EE617DD#32
  | 60 => 0x3DA66412#32
  | 61 => 0x3F3F57DD#32
  | 62 => 0x4026B0F0#32
  | 63 => 0x3FEA7E4A#32
  | 64 => 0x40A38EB3#32
  | 65 => 0xBF98A5CC#32
  | 66 => 0x3D03B724#32
  | 67 => 0x404A6BF4#32
  | 68 => 0xBE204E08#32
  | 69 => 0x3E4537B0#32
  | 70 => 0x400DB09F#32
  | 71 => 0x405AE2F2#32
  | 72 => 0x3F7DAB48#32
  | 73 => 0xBF344A27#32
  | 74 => 0x3FA22CC5#32
  | 75 => 0xBF5AEAE7#32
  | 76 => 0xBF5492D1#32
  | 77 => 0xBD7D04B7#32
  | 78 => 0xBF1D3DDA#32
  | 79 => 0x3F3787FA#32
  | 80 => 0xBF24EF92#32
  | 81 => 0xBF658A00#32
  | 82 => 0xBF95FE9D#32
  | 83 => 0xBD8F1C4D#32
  | 84 => 0xBEB34ACF#32
  | 85 => 0x3F82399F#32
  | 86 => 0x3ED37B98#32
  | 87 => 0xBEB40F67#32
  | 88 => 0xBEA0C287#32
  | 89 => 0x3F3904F8#32
  | 90 => 0x3E8F2D06#32
  | 91 => 0x3F9D6D2C#32
  | 92 => 0xBF86543D#32
  | 93 => 0xBE98BBBE#32
  | 94 => 0x400848B2#32
  | 95 => 0x3F933D13#32
  | 96 => 0x3FF2558B#32
  | 97 => 0xBF993ACD#32
  | 98 => 0xBF1BC9C2#32
  | 99 => 0x3FE19132#32
  | 100 => 0x3EC42850#32
  | 101 => 0x3C392346#32
  | 102 => 0x3EFEE2CC#32
  | 103 => 0x3FADA040#32
  | 104 => 0xBFA0E844#32
  | 105 => 0x3D9740B8#32
  | 106 => 0x3F193A05#32
  | 107 => 0x3D7D248B#32
  | 108 => 0xBE2B0921#32
  | 109 => 0x3F27F305#32
  | 110 => 0xBF3E51C0#32
  | 111 => 0xBEB51C1F#32
  | 112 => 0xBEFC441E#32
  | 113 => 0xBF7686C9#32
  | 114 => 0x3DB3334D#32
  | 115 => 0x402F052C#32
  | 116 => 0xBEBB55BB#32
  | 117 => 0xBE92EF5C#32
  | 118 => 0x40C02D5C#32
  | 119 => 0x3FD43173#32
  | 120 => 0x3F2A6ED9#32
  | 121 => 0xBF5BC172#32
  | 122 => 0xBF36D0E8#32
  | 123 => 0x3E4EE6D7#32
  | 124 => 0xBED20C7F#32
  | 125 => 0xBF72343C#32
  | 126 => 0xBE8D2E96#32
  | 127 => 0x40071B5C#32
  | _ => 0#32

noncomputable abbrev lit0t0_172 (i : Nat) : BitVec 32 := match i % 128 with
  | 0 => 0x3FE277C2#32
  | 1 => 0xBF996D5B#32
  | 2 => 0xBDB16073#32
  | 3 => 0x3F1B2D99#32
  | 4 => 0x3F602DC3#32
  | 5 => 0x3FF053D3#32
  | 6 => 0x3F74F4A8#32
  | 7 => 0xBFD7AD6F#32
  | 8 => 0x3FF7058E#32
  | 9 => 0xBF963630#32
  | 10 => 0x3DF7C16A#32
  | 11 => 0x3DAB7E73#32
  | 12 => 0x3FEF2CF2#32
  | 13 => 0xBFA95DDB#32
  | 14 => 0x3FA5B1CB#32
  | 15 => 0xBF5B5C54#32
  | 16 => 0xBF0FD711#32
  | 17 => 0x3FC2854C#32
  | 18 => 0x40A8A2E0#32
  | 19 => 0xBF9A6C56#32
  | 20 => 0x3FB0E9FD#32
  | 21 => 0xBF9FE59A#32
  | 22 => 0x3FCACAA5#32
  | 23 => 0xBF19C9FB#32
  | 24 => 0x3EEA4978#32
  | 25 => 0xBF0AD470#32
  | 26 => 0x3FC64D77#32
  | 27 => 0xBF17481B#32
  | 28 => 0x3FEC4EAE#32
  | 29 => 0x3FC128DA#32
  | 30 => 0xBF2F9CB5#32
  | 31 => 0x4099458A#32
  | 32 => 0x3FC446FE#32
  | 33 => 0x3DC7B9F6#32
  | 34 => 0xBDFAC18A#32
  | 35 => 0xBF434CE7#32
  | 36 => 0xBDB6FBA6#32
  | 37 => 0xBFBE5023#32
  | 38 => 0xBF866884#32
  | 39 => 0xBE1B0ACC#32
  | 40 => 0x3FCE8654#32
  | 41 => 0x408EA1ED#32
  | 42 => 0x3FD7E953#32
  | 43 => 0x3F218265#32
  | 44 => 0xBFCBCF13#32
  | 45 => 0xBEE3FA32#32
  | 46 => 0xBF0FAD7E#32
  | 47 => 0x3F255E8C#32
  | 48 => 0x3F8E6186#32
  | 49 => 0xBE74FCBA#32
  | 50 => 0xBF2EA0F5#32
  | 51 => 0x3FDCD7AC#32
  | 52 => 0x3E540BE1#32
  | 53 => 0x3F1BE3F2#32
  | 54 => 0xBF4D7CD1#32
  | 55 => 0xBEEAD9D6#32
  | 56 => 0x3FD350EE#32
  | 57 => 0x3FC9505B#32
  | 58 => 0x3FF14130#32
  | 59 => 0xBF7D2D90#32
  | 60 => 0x3E4348BE#32
  | 61 => 0xBF640F1E#32
  | 62 => 0xBF8AA5EC#32
  | 63 => 0xBF88A17E#32
  | 64 => 0x3EEF062C#32
  | 65 => 0x402BF629#32
  | 66 => 0x3EA4E6B1#32
  | 67 => 0x3E308EDD#32
  | 68 => 0x3F7CEE64#32
  | 69 => 0xBF2BD659#32
  | 70 => 0x3ED79A20#32
  | 71 => 0x3F4EB491#32
  | 72 => 0x3FCA9A34#32
  | 73 => 0xBF3F4A6E#32
  | 74 => 0xBEDD87CC#32
  | 75 => 0x3FA9CF43#32
  | 76 => 0x3F837B8E#32
  | 77 => 0x3F13A66F#32
  | 78 => 0x40214972#32
  | 79 => 0xBE1D39BC#32
  | 80 => 0xBF4144A3#32
  | 81 => 0x3FC4BFB2#32
  | 82 => 0x3DC56394#32
  | 83 => 0xBE8EC2B4#32
  | 84 => 0x3D92097D#32
  | 85 => 0xBEC35972#32
  | 86 => 0x405A4908#32
  | 87 => 0x3D65508C#32
  | 88 => 0x4001F904#32
  | 89 => 0x3ED686B0#32
  | 90 => 0x3FF19193#32
  | 91 => 0x3E3594B4#32
  | 92 => 0xBF2F3797#32
  | 93 => 0xBEDBBD80#32
  | 94 => 0x40307941#32
  | 95 => 0xBE9CA1CC#32
  | 96 => 0x3F57D9FC#32
  | 97 => 0x3FAE47A4#32
  | 98 => 0xBF561DC3#32
  | 99 => 0x4014B4CC#32
  | 100 => 0xBF888CEF#32
  | 101 => 0x3F09FC4D#32
  | 102 => 0x3D9B65E3#32
  | 103 => 0x3DC16D7A#32
  | 104 => 0xBFC00FA9#32
  | 105 => 0x3F87157E#32
  | 106 => 0x3EE89FF2#32
  | 107 => 0x3F23B0AD#32
  | 108 => 0xBF99330A#32
  | 109 => 0xBF838259#32
  | 110 => 0x3E811013#32
  | 111 => 0xBEC8865F#32
  | 112 => 0xBD529C86#32
  | 113 => 0x3D764C25#32
  | 114 => 0xBE8554A5#32
  | 115 => 0xBE81E748#32
  | 116 => 0x3F224D0A#32
  | 117 => 0x3EA65963#32
  | 118 => 0x3E125D66#32
  | 119 => 0xBF5B2D98#32
  | 120 => 0xBF40E5F7#32
  | 121 => 0x3F1657D2#32
  | 122 => 0x403308BD#32
  | 123 => 0x408B74B8#32
  | 124 => 0x3F4D8852#32
  | 125 => 0x3F23222D#32
  | 126 => 0xBF109A66#32
  | 127 => 0x3F237E98#32
  | _ => 0#32

noncomputable abbrev lit0t0_173 (i : Nat) : BitVec 32 := match i % 128 with
  | 0 => 0x407E69D1#32
  | 1 => 0xBF62D704#32
  | 2 => 0x3FEDD7EF#32
  | 3 => 0xBF537AAE#32
  | 4 => 0xBF974567#32
  | 5 => 0xBF5869BF#32
  | 6 => 0x3EC3804E#32
  | 7 => 0xBF70A910#32
  | 8 => 0xBE1DC0C8#32
  | 9 => 0x3F52A820#32
  | 10 => 0xBFC70CE3#32
  | 11 => 0x3FF9AE6D#32
  | 12 => 0x3F48D20C#32
  | 13 => 0xBEAD5B8F#32
  | 14 => 0x3DC66F06#32
  | 15 => 0x3F3F0436#32
  | 16 => 0x3FA18C53#32
  | 17 => 0xBF0FB5DA#32
  | 18 => 0x3F1A5D82#32
  | 19 => 0xBEF190D0#32
  | 20 => 0x3FA37771#32
  | 21 => 0x402A24AF#32
  | 22 => 0x406635B0#32
  | 23 => 0x401C8743#32
  | 24 => 0xBF357974#32
  | 25 => 0x4013F2DC#32
  | 26 => 0xBF03D880#32
  | 27 => 0xBF0C966C#32
  | 28 => 0x3E92B39A#32
  | 29 => 0x3FD17DE4#32
  | 30 => 0x3EF351EB#32
  | 31 => 0x4073781A#32
  | 32 => 0x3F0DF81A#32
  | 33 => 0xBEBDAE27#32
  | 34 => 0x403E8C68#32
  | 35 => 0xBEAF1A83#32
  | 36 => 0x3E981541#32
  | 37 => 0x400F7E3F#32
  | 38 => 0x3F56DADC#32
  | 39 => 0xBE0977D0#32
  | 40 => 0x3EEB70AA#32
  | 41 => 0x3FF091C5#32
  | 42 => 0xBFA74A2F#32
  | 43 => 0x3F6FF3A4#32
  | 44 => 0x3FA486D8#32
  | 45 => 0x3F809020#32
  | 46 => 0xBE9E610C#32
  | 47 => 0xBF15B439#32
  | 48 => 0xBF984B31#32
  | 49 => 0xBEAD51A6#32
  | 50 => 0xBE6DA3BE#32
  | 51 => 0x3B7E4C23#32
  | 52 => 0xBE94E498#32
  | 53 => 0x3FF755D8#32
  | 54 => 0x3FCD520B#32
  | 55 => 0xBDED523A#32
  | 56 => 0xBFA34D8E#32
  | 57 => 0x3F49236F#32
  | 58 => 0x3FB6558F#32
  | 59 => 0x3EDC21CC#32
  | 60 => 0x40A31F57#32
  | 61 => 0x3EE2E0F6#32
  | 62 => 0xBEAEEF0D#32
  | 63 => 0x3F017ED7#32
  | 64 => 0x3F7ADE21#32
  | 65 => 0x3F0549C8#32
  | 66 => 0xBF8345D3#32
  | 67 => 0xBE21CA82#32
  | 68 => 0x3F80E3A0#32
  | 69 => 0x3F218EF1#32
  | 70 => 0x4061CA80#32
  | 71 => 0x3E92BD42#32
  | 72 => 0x40C8AF4E#32
  | 73 => 0xBEFB9792#32
  | 74 => 0x400359F6#32
  | 75 => 0x3FC75568#32
  | 76 => 0x40129A72#32
  | 77 => 0x3DD574F4#32
  | 78 => 0x40B0B066#32
  | 79 => 0x3F41A7AA#32
  | 80 => 0xBE736CE2#32
  | 81 => 0xBDE6CBC9#32
  | 82 => 0x400AFD6F#32
  | 83 => 0xBF898F90#32
  | 84 => 0x3E10EBBC#32
  | 85 => 0x40107C41#32
  | 86 => 0xBEC9C8B1#32
  | 87 => 0xBF33ACEE#32
  | 88 => 0x3F2FB563#32
  | 89 => 0xBFED1080#32
  | 90 => 0x4041719F#32
  | 91 => 0xBD601682#32
  | 92 => 0xBECC1FB7#32
  | 93 => 0x3FA2C18A#32
  | 94 => 0x401331D8#32
  | 95 => 0xBE8CD3EF#32
  | 96 => 0x3F618DDE#32
  | 97 => 0xBF7A425E#32
  | 98 => 0xBF25E6F0#32
  | 99 => 0xBF9302A4#32
  | 100 => 0xBF9762BF#32
  | 101 => 0xBE92297F#32
  | 102 => 0xBF21AA45#32
  | 103 => 0xBEAD902A#32
  | 104 => 0xBE1E526A#32
  | 105 => 0x3EC4C866#32
  | 106 => 0x3E42BADC#32
  | 107 => 0x40304530#32
  | 108 => 0x3F1D774C#32
  | 109 => 0x3E5D5EE0#32
  | 110 => 0x3F4275A1#32
  | 111 => 0x3FCA2EE9#32
  | 112 => 0x3F2A5312#32
  | 113 => 0x3F3A0F93#32
  | 114 => 0x40048B8B#32
  | 115 => 0x404C9002#32
  | 116 => 0xBEE18185#32
  | 117 => 0x3FE100CF#32
  | 118 => 0x3F361BA1#32
  | 119 => 0xBF3FF02B#32
  | 120 => 0xBF040172#32
  | 121 => 0xBE4DF7C6#32
  | 122 => 0x3E8E7FF9#32
  | 123 => 0x4013DFB2#32
  | 124 => 0xBE885E38#32
  | 125 => 0x4035F10F#32
  | 126 => 0x3EA7F286#32
  | 127 => 0x3EAFD23A#32
  | _ => 0#32

noncomputable abbrev lit0t0_174 (i : Nat) : BitVec 32 := match i % 128 with
  | 0 => 0xBF4293FB#32
  | 1 => 0x3E8CFC46#32
  | 2 => 0xBC915600#32
  | 3 => 0xBF5CC1AB#32
  | 4 => 0x3EDBC262#32
  | 5 => 0x3EF036CC#32
  | 6 => 0x3F8141E6#32
  | 7 => 0x3FB9CDE2#32
  | 8 => 0x3F83C32E#32
  | 9 => 0x4057ACF9#32
  | 10 => 0xC0026417#32
  | 11 => 0x3BEE585F#32
  | 12 => 0x4095578B#32
  | 13 => 0x4001C5C0#32
  | 14 => 0x3EB0E9BE#32
  | 15 => 0xBE4E523A#32
  | 16 => 0xBF6C1434#32
  | 17 => 0x3FDFB8ED#32
  | 18 => 0xBF23290A#32
  | 19 => 0x4027354C#32
  | 20 => 0xBF7CF0EA#32
  | 21 => 0x3F91A02B#32
  | 22 => 0x3F62EF44#32
  | 23 => 0xBFBA38B1#32
  | 24 => 0xBE0FCD96#32
  | 25 => 0xBE963D0A#32
  | 26 => 0x3F113C49#32
  | 27 => 0x3F8FBC5E#32
  | 28 => 0x3FA5464A#32
  | 29 => 0x3FB116D6#32
  | 30 => 0x402DCE46#32
  | 31 => 0xBEE9B34E#32
  | 32 => 0x40194EF9#32
  | 33 => 0x3E990DE4#32
  | 34 => 0xBE57F4F5#32
  | 35 => 0xBE941DC4#32
  | 36 => 0xBFBCBFB0#32
  | 37 => 0xBFBCEE32#32
  | 38 => 0xBF4BAE39#32
  | 39 => 0x3F463603#32
  | 40 => 0x3E6C62C4#32
  | 41 => 0x3F52CBEE#32
  | 42 => 0x4006F2A1#32
  | 43 => 0xBF2D9FC7#32
  | 44 => 0x3F95C1EA#32
  | 45 => 0xBBFDE688#32
  | 46 => 0x3F6A1371#32
  | 47 => 0xBE33024F#32
  | 48 => 0x3ECD2462#32
  | 49 => 0x408B79AA#32
  | 50 => 0x3F37EBD9#32
  | 51 => 0x3FE27A2E#32
  | 52 => 0x401CD778#32
  | 53 => 0xBC12EDD6#32
  | 54 => 0x3F191B89#32
  | 55 => 0xBF0D5A78#32
  | 56 => 0x3D39AACA#32
  | 57 => 0x3F193BA0#32
  | 58 => 0x4006A788#32
  | 59 => 0x3FF287B2#32
  | 60 => 0x3E1B7717#32
  | 61 => 0x3F91BD3E#32
  | 62 => 0x3F77E2E2#32
  | 63 => 0x3FE145EB#32
  | 64 => 0xBDB956B7#32
  | 65 => 0x3FEC442A#32
  | 66 => 0xBF770470#32
  | 67 => 0x3CC92943#32
  | 68 => 0x3EDFE01B#32
  | 69 => 0xBF7F99A4#32
  | 70 => 0xBF906106#32
  | 71 => 0x3F8CC68B#32
  | 72 => 0x3F63B8DA#32
  | 73 => 0xBF19741B#32
  | 74 => 0x4004FD69#32
  | 75 => 0x4038248E#32
  | 76 => 0x3F95D95A#32
  | 77 => 0x3F3BE3E5#32
  | 78 => 0xBE74F533#32
  | 79 => 0xBF7B3707#32
  | 80 => 0x3F4375BB#32
  | 81 => 0x3F47E874#32
  | 82 => 0x402A9928#32
  | 83 => 0x3ED8C340#32
  | 84 => 0xBF005B2F#32
  | 85 => 0xBD86E37F#32
  | 86 => 0x407ADC3F#32
  | 87 => 0x40FBE947#32
  | 88 => 0x3F03B2B6#32
  | 89 => 0xBF0505C3#32
  | 90 => 0x3FB57F7B#32
  | 91 => 0x3FF6F422#32
  | 92 => 0xBF055D7A#32
  | 93 => 0xBE40FFC5#32
  | 94 => 0x3F823547#32
  | 95 => 0x3FB82159#32
  | 96 => 0x3F9E0324#32
  | 97 => 0xBDF9630F#32
  | 98 => 0xBE9BB7E3#32
  | 99 => 0x3E6BE685#32
  | 100 => 0x40381485#32
  | 101 => 0xBF0E69D8#32
  | 102 => 0x3F9AFD97#32
  | 103 => 0x3FE5E1A9#32
  | 104 => 0xBEEB914E#32
  | 105 => 0x40052F1C#32
  | 106 => 0xBEEBBBEA#32
  | 107 => 0x3F1D8813#32
  | 108 => 0x4051CB79#32
  | 109 => 0x3EE17082#32
  | 110 => 0x401C5F6A#32
  | 111 => 0x40A69F00#32
  | 112 => 0x3E2A6D38#32
  | 113 => 0xBDFDF4CB#32
  | 114 => 0xBDFFC98C#32
  | 115 => 0x3DEB299A#32
  | 116 => 0xBF1CBEFF#32
  | 117 => 0x3F51FA54#32
  | 118 => 0x3EE32F69#32
  | 119 => 0xBEC81C70#32
  | 120 => 0x4013A195#32
  | 121 => 0x3F0F139C#32
  | 122 => 0xBF1B88CE#32
  | 123 => 0xBE974EE3#32
  | 124 => 0xBF46960E#32
  | 125 => 0xBEA10508#32
  | 126 => 0x3F627582#32
  | 127 => 0x3FA72CAB#32
  | _ => 0#32

noncomputable abbrev lit0t0_175 (i : Nat) : BitVec 32 := match i % 128 with
  | 0 => 0x3E393210#32
  | 1 => 0x3FABD1C2#32
  | 2 => 0x3DAB5533#32
  | 3 => 0x3CDD6A27#32
  | 4 => 0xBFC817A7#32
  | 5 => 0xBE78B401#32
  | 6 => 0x4010AD79#32
  | 7 => 0xBD8CB8BF#32
  | 8 => 0x3F27BADF#32
  | 9 => 0x402792D2#32
  | 10 => 0x3F97434E#32
  | 11 => 0x3D9D94AE#32
  | 12 => 0x3EF88DAF#32
  | 13 => 0xBF99BB47#32
  | 14 => 0x3E9D5675#32
  | 15 => 0x40291C45#32
  | 16 => 0x3F57B6C3#32
  | 17 => 0xBFAFCE6C#32
  | 18 => 0x40A2E03E#32
  | 19 => 0x3F6888C8#32
  | 20 => 0x3FB534C5#32
  | 21 => 0x3E4EF1D6#32
  | 22 => 0x4008A3EC#32
  | 23 => 0x3F4BD91B#32
  | 24 => 0x3F567CB0#32
  | 25 => 0x404C7233#32
  | 26 => 0x3F0AE327#32
  | 27 => 0xBEAABCAD#32
  | 28 => 0x401EA9B1#32
  | 29 => 0x3FAC93FC#32
  | 30 => 0x3EEF28B1#32
  | 31 => 0x3F6A2B47#32
  | 32 => 0xBEF2CC2C#32
  | 33 => 0xBE5F9CB7#32
  | 34 => 0x3FF0BBD2#32
  | 35 => 0xBF07564E#32
  | 36 => 0x3F988353#32
  | 37 => 0x3F714506#32
  | 38 => 0xBF4C84D3#32
  | 39 => 0x3F5CAF2D#32
  | 40 => 0xBF642AEC#32
  | 41 => 0x3EE67C46#32
  | 42 => 0x3FAD9821#32
  | 43 => 0x3FB41F6F#32
  | 44 => 0x3FFFFFCB#32
  | 45 => 0xBF923C5B#32
  | 46 => 0x3FACD346#32
  | 47 => 0x3E6658F6#32
  | 48 => 0x3F927A71#32
  | 49 => 0xBF65B366#32
  | 50 => 0xBE044A55#32
  | 51 => 0x3F9D7D24#32
  | 52 => 0xBE23B6D3#32
  | 53 => 0x40B203F7#32
  | 54 => 0x405940C8#32
  | 55 => 0x3FF574D7#32
  | 56 => 0x402372F1#32
  | 57 => 0x3E8C7250#32
  | 58 => 0xBF867C08#32
  | 59 => 0x3F1B34CF#32
  | 60 => 0xBF3623FD#32
  | 61 => 0x3E204907#32
  | 62 => 0xBF4BDBFD#32
  | 63 => 0x3D8E928D#32
  | 64 => 0xBF81EC20#32
  | 65 => 0x3D9F1C15#32
  | 66 => 0x3C99E2B5#32
  | 67 => 0xBF2D4154#32
  | 68 => 0xBEA9C26C#32
  | 69 => 0xBF3814F8#32
  | 70 => 0x401C7039#32
  | 71 => 0x3F0EE1E2#32
  | 72 => 0x3EBB0544#32
  | 73 => 0xBEE43422#32
  | 74 => 0x3F2E7BC9#32
  | 75 => 0x3F514F0C#32
  | 76 => 0xBF3F0C7F#32
  | 77 => 0xBEC7FE21#32
  | 78 => 0x3EE9090E#32
  | 79 => 0x3E2D68A0#32
  | 80 => 0x3E91377C#32
  | 81 => 0x3F2D2AFB#32
  | 82 => 0x3F7A0198#32
  | 83 => 0xBE2E1347#32
  | 84 => 0xBF2E4515#32
  | 85 => 0x3FC7AB12#32
  | 86 => 0x3FF819D4#32
  | 87 => 0x3E611E06#32
  | 88 => 0xBF32BD43#32
  | 89 => 0x3D6C75C7#32
  | 90 => 0x3FBDCDAF#32
  | 91 => 0xBF0F1439#32
  | 92 => 0x402767C0#32
  | 93 => 0x3EB9AE88#32
  | 94 => 0x3EFF490E#32
  | 95 => 0x3F2D3B0F#32
  | 96 => 0xBF2214F5#32
  | 97 => 0xBD869BCF#32
  | 98 => 0x3FBFC89A#32
  | 99 => 0x405E2ECD#32
  | 100 => 0x400064FD#32
  | 101 => 0xBF588611#32
  | 102 => 0x3ECEF35B#32
  | 103 => 0x3D7D8BFF#32
  | 104 => 0x3FE1A35C#32
  | 105 => 0xBF9D2AC6#32
  | 106 => 0x3EA46714#32
  | 107 => 0xBF806F03#32
  | 108 => 0x3E0251EF#32
  | 109 => 0x3F3146FA#32
  | 110 => 0x3EF40EC0#32
  | 111 => 0xBE13F1D3#32
  | 112 => 0xBF9F9D90#32
  | 113 => 0x3ECD17DC#32
  | 114 => 0xBF4DE776#32
  | 115 => 0xBEEE3FC9#32
  | 116 => 0x3E0DE7D8#32
  | 117 => 0x3F909A1B#32
  | 118 => 0x3C69874A#32
  | 119 => 0x3FED62B2#32
  | 120 => 0x3F0508B8#32
  | 121 => 0xBF1D1985#32
  | 122 => 0x3FB9DCA5#32
  | 123 => 0x401031E0#32
  | 124 => 0xBE933AD7#32
  | 125 => 0x3F894CAC#32
  | 126 => 0x3EF0AD0A#32
  | 127 => 0x3EED8E20#32
  | _ => 0#32

noncomputable abbrev lit0t0_176 (i : Nat) : BitVec 32 := match i % 128 with
  | 0 => 0x3E8CBD70#32
  | 1 => 0x401C4418#32
  | 2 => 0xBE16648C#32
  | 3 => 0x3E34976B#32
  | 4 => 0x3F997C57#32
  | 5 => 0x4025641D#32
  | 6 => 0x3FDDECAC#32
  | 7 => 0x4004E6F2#32
  | 8 => 0xBF1BCE53#32
  | 9 => 0xBEFBEF14#32
  | 10 => 0x401E861A#32
  | 11 => 0x3E864550#32
  | 12 => 0xBD31584F#32
  | 13 => 0x3EF9DC80#32
  | 14 => 0xBF5704A2#32
  | 15 => 0xBF05CF31#32
  | 16 => 0x3F7CA944#32
  | 17 => 0x3EAECBBD#32
  | 18 => 0x3FE9A45A#32
  | 19 => 0x3FA440EE#32
  | 20 => 0xBF955D3E#32
  | 21 => 0xBEF94E28#32
  | 22 => 0xBF1619F8#32
  | 23 => 0xBF63A3AD#32
  | 24 => 0x3F992D69#32
  | 25 => 0x400B235C#32
  | 26 => 0xBECD6006#32
  | 27 => 0x3F1CF0C5#32
  | 28 => 0xBF7AFA0E#32
  | 29 => 0xBF5F7F65#32
  | 30 => 0x3EB029FE#32
  | 31 => 0x3FF43972#32
  | 32 => 0xBFB27580#32
  | 33 => 0xBEE5278A#32
  | 34 => 0xBFA2811E#32
  | 35 => 0x40AF4F7C#32
  | 36 => 0xBF840C93#32
  | 37 => 0x3F320F48#32
  | 38 => 0x3F7BCA9E#32
  | 39 => 0x3EB832C4#32
  | 40 => 0x3FB35BB0#32
  | 41 => 0xBF1356C1#32
  | 42 => 0x4006868C#32
  | 43 => 0xBDE2F0BE#32
  | 44 => 0xBFCA90D9#32
  | 45 => 0x403A451B#32
  | 46 => 0x3FB3A4F4#32
  | 47 => 0x3E29EC75#32
  | 48 => 0x3E9F3C15#32
  | 49 => 0x3FBE531B#32
  | 50 => 0xBEC36C15#32
  | 51 => 0xBF366895#32
  | 52 => 0x3FA49253#32
  | 53 => 0xBF407E41#32
  | 54 => 0xBF43D166#32
  | 55 => 0xBBC275FE#32
  | 56 => 0xBF7FE3A6#32
  | 57 => 0x3E9C205B#32
  | 58 => 0xBE99ACD8#32
  | 59 => 0x3EEA5A91#32
  | 60 => 0xBE108AC4#32
  | 61 => 0x3FCD8DF8#32
  | 62 => 0xBF251D75#32
  | 63 => 0xBEF0AECC#32
  | 64 => 0x3FBB9D95#32
  | 65 => 0x3ED576F9#32
  | 66 => 0x3EA95B1F#32
  | 67 => 0xBE55CF9A#32
  | 68 => 0x401B152D#32
  | 69 => 0xBEB31A28#32
  | 70 => 0xBEE84500#32
  | 71 => 0x3F8AB43A#32
  | 72 => 0xBE1F4635#32
  | 73 => 0x3F521E06#32
  | 74 => 0x3FFF8326#32
  | 75 => 0x3ED8AD41#32
  | 76 => 0x3F910276#32
  | 77 => 0x3DD9C66C#32
  | 78 => 0x3D5FBF09#32
  | 79 => 0x3ECAB84A#32
  | 80 => 0x3FEAD468#32
  | 81 => 0x3E5426D4#32
  | 82 => 0xBF908028#32
  | 83 => 0x3FBE52C3#32
  | 84 => 0x3EAAAF03#32
  | 85 => 0xBE6BDC73#32
  | 86 => 0x3F52D1F2#32
  | 87 => 0x3E4F8DB1#32
  | 88 => 0xBEFEAE3C#32
  | 89 => 0x3F23739A#32
  | 90 => 0xBD4ECC6C#32
  | 91 => 0xBE98ECC7#32
  | 92 => 0x4036DEE2#32
  | 93 => 0x3DE5CDBA#32
  | 94 => 0xBFA6C763#32
  | 95 => 0x3FAE34FF#32
  | 96 => 0xBE9BEE7B#32
  | 97 => 0x3EE41ACC#32
  | 98 => 0xBF2F617F#32
  | 99 => 0x3FC40286#32
  | 100 => 0x3F1B35AD#32
  | 101 => 0x3F2A8A99#32
  | 102 => 0x409EAD60#32
  | 103 => 0x3E9A9DAD#32
  | 104 => 0x3E43EF57#32
  | 105 => 0x3FAB8DDF#32
  | 106 => 0x3FC8A9FD#32
  | 107 => 0xBF724282#32
  | 108 => 0x3E82ECE3#32
  | 109 => 0x3F98FCAA#32
  | 110 => 0xBD6DA854#32
  | 111 => 0xBFBFA5C6#32
  | 112 => 0xBFD08EC1#32
  | 113 => 0x3FB4D2DB#32
  | 114 => 0x3F955A0C#32
  | 115 => 0x404F603B#32
  | 116 => 0xBEC87A5C#32
  | 117 => 0xBEB5AFB6#32
  | 118 => 0xBE6054E0#32
  | 119 => 0xBECFE49A#32
  | 120 => 0xBF3CEBCF#32
  | 121 => 0x402CD4EB#32
  | 122 => 0x3FF9F05D#32
  | 123 => 0x3F4FE830#32
  | 124 => 0x3FE7A1FE#32
  | 125 => 0xBEF11600#32
  | 126 => 0xBDA6AE70#32
  | 127 => 0x3FFAF04B#32
  | _ => 0#32

noncomputable abbrev lit0t0_177 (i : Nat) : BitVec 32 := match i % 128 with
  | 0 => 0x3F4071C9#32
  | 1 => 0x3F622568#32
  | 2 => 0xBF3B249A#32
  | 3 => 0xBF1498B5#32
  | 4 => 0x3EDB5B98#32
  | 5 => 0xBE545671#32
  | 6 => 0x406777F8#32
  | 7 => 0xBF589EAC#32
  | 8 => 0xBF59BC34#32
  | 9 => 0x3CCA807D#32
  | 10 => 0xBEF9A4BC#32
  | 11 => 0xBEDA670C#32
  | 12 => 0x3EDB7E18#32
  | 13 => 0x3F89AC24#32
  | 14 => 0x3FBC6C70#32
  | 15 => 0x3F340FB9#32
  | 16 => 0x404B02EE#32
  | 17 => 0x3EE140A5#32
  | 18 => 0xBF498039#32
  | 19 => 0x3FC903BC#32
  | 20 => 0x3F0DBDB2#32
  | 21 => 0x3EAD54A5#32
  | 22 => 0x3FAA1066#32
  | 23 => 0x3F62D13E#32
  | 24 => 0x406A927E#32
  | 25 => 0x3F37D660#32
  | 26 => 0x3F5B5AE4#32
  | 27 => 0x3FB47883#32
  | 28 => 0x3FB45D42#32
  | 29 => 0x3E8D91C1#32
  | 30 => 0x40296DCA#32
  | 31 => 0x3FE5CA1B#32
  | 32 => 0x3F2BAB84#32
  | 33 => 0x3F8C76E4#32
  | 34 => 0xBF63EA74#32
  | 35 => 0x3FA0B0E2#32
  | 36 => 0x3F2537C9#32
  | 37 => 0xBE0D8F52#32
  | 38 => 0xBE48EBAC#32
  | 39 => 0x3FC20B2B#32
  | 40 => 0xBF0BF0A6#32
  | 41 => 0xBFA37418#32
  | 42 => 0x3F5826D8#32
  | 43 => 0xBECBCAF6#32
  | 44 => 0x40201221#32
  | 45 => 0x3ED05DF7#32
  | 46 => 0x3EA26A4C#32
  | 47 => 0x3E9940D9#32
  | 48 => 0xBF21CAA3#32
  | 49 => 0xBEA1560B#32
  | 50 => 0x4063DFF0#32
  | 51 => 0x3F298741#32
  | 52 => 0xBE65C656#32
  | 53 => 0xBFCEF758#32
  | 54 => 0x3E01A5E0#32
  | 55 => 0xBF95709C#32
  | 56 => 0xBF455542#32
  | 57 => 0xBFC10B67#32
  | 58 => 0xBE9ADB7E#32
  | 59 => 0x3FE88928#32
  | 60 => 0x3F82879A#32
  | 61 => 0xBFB110BA#32
  | 62 => 0xBDEC39AD#32
  | 63 => 0x3FB88E30#32
  | 64 => 0xBEE1472D#32
  | 65 => 0x4019C5E6#32
  | 66 => 0xBF2BA801#32
  | 67 => 0x3F36EEB5#32
  | 68 => 0x3E01AEAF#32
  | 69 => 0x3F740D30#32
  | 70 => 0x3ED553F7#32
  | 71 => 0xBEEF3AC2#32
  | 72 => 0x4081CD4E#32
  | 73 => 0x3F7028B6#32
  | 74 => 0x3FABA817#32
  | 75 => 0x3EA6A463#32
  | 76 => 0xBE8F3A0C#32
  | 77 => 0x3E8F614F#32
  | 78 => 0x3FFA2E47#32
  | 79 => 0xBF5606EE#32
  | 80 => 0x3E7CDDA2#32
  | 81 => 0xBF4A453B#32
  | 82 => 0x3F87FF9C#32
  | 83 => 0x3DC78BB2#32
  | 84 => 0xBF4187E0#32
  | 85 => 0x3DFC630A#32
  | 86 => 0xBCE9C75F#32
  | 87 => 0x3F81FB42#32
  | 88 => 0xBF4430F0#32
  | 89 => 0xBFA1FBC4#32
  | 90 => 0x400037C7#32
  | 91 => 0x40066E61#32
  | 92 => 0xBEF01AC8#32
  | 93 => 0x3F8B362E#32
  | 94 => 0xBEB741EB#32
  | 95 => 0x3E93A142#32
  | 96 => 0x3FF31FC2#32
  | 97 => 0xBE21CBA1#32
  | 98 => 0x3EC94B9F#32
  | 99 => 0xBF600D5E#32
  | 100 => 0x40EC3FBC#32
  | 101 => 0xBF51EF87#32
  | 102 => 0x3E15257C#32
  | 103 => 0x3D52F4C2#32
  | 104 => 0x3FD830BE#32
  | 105 => 0x401A6764#32
  | 106 => 0x3FDB0239#32
  | 107 => 0x4014E81F#32
  | 108 => 0x3F4E4BE5#32
  | 109 => 0xBF842CE2#32
  | 110 => 0x3ED355BF#32
  | 111 => 0x3C22C752#32
  | 112 => 0xBE435C29#32
  | 113 => 0x3FDA94EA#32
  | 114 => 0xBD23745D#32
  | 115 => 0x3FDA2EF0#32
  | 116 => 0x3E0BA4A6#32
  | 117 => 0xBF411AFB#32
  | 118 => 0x3E19670F#32
  | 119 => 0x3FF1BCFC#32
  | 120 => 0x3FEC4AF9#32
  | 121 => 0xBF79B904#32
  | 122 => 0x3FA6D634#32
  | 123 => 0x3F41AA3E#32
  | 124 => 0x3F05B5CA#32
  | 125 => 0x3F3FEFA2#32
  | 126 => 0xBEFCB778#32
  | 127 => 0x401737A6#32
  | _ => 0#32

noncomputable abbrev lit0t0_178 (i : Nat) : BitVec 32 := match i % 128 with
  | 0 => 0xBF15E277#32
  | 1 => 0xBFBF1693#32
  | 2 => 0x3F017EF4#32
  | 3 => 0xBF199F37#32
  | 4 => 0xBEC352EF#32
  | 5 => 0x3F9C520D#32
  | 6 => 0xBF89EDF3#32
  | 7 => 0xBEE5A420#32
  | 8 => 0x3F5A970E#32
  | 9 => 0xBE055038#32
  | 10 => 0xBF57A42F#32
  | 11 => 0x3F663360#32
  | 12 => 0x3F75DBA6#32
  | 13 => 0xBFA44484#32
  | 14 => 0x3FF5594C#32
  | 15 => 0x3FB12B39#32
  | 16 => 0x3F507DBE#32
  | 17 => 0xBF9C01B0#32
  | 18 => 0x3F86EEEA#32
  | 19 => 0x3F92E7F3#32
  | 20 => 0x3F2FCAC7#32
  | 21 => 0xBE37956B#32
  | 22 => 0x3D5389BE#32
  | 23 => 0xBFAE6815#32
  | 24 => 0xBF902AE9#32
  | 25 => 0xBFC0E55A#32
  | 26 => 0xBF08BBE3#32
  | 27 => 0x4054AB15#32
  | 28 => 0x3E32103F#32
  | 29 => 0x3E5661BE#32
  | 30 => 0x3FBD461E#32
  | 31 => 0x3DD4EC87#32
  | 32 => 0xBE307DF4#32
  | 33 => 0x3F4A85ED#32
  | 34 => 0xBEFA7F1E#32
  | 35 => 0x3EB8E894#32
  | 36 => 0x3F0ECC72#32
  | 37 => 0x404E7FA5#32
  | 38 => 0x3F531AF0#32
  | 39 => 0xBF9359E2#32
  | 40 => 0x3E5F281F#32
  | 41 => 0x4088BE57#32
  | 42 => 0xBE2832A1#32
  | 43 => 0x3F21B6A5#32
  | 44 => 0x3E101D22#32
  | 45 => 0xBD94A7B2#32
  | 46 => 0xBFB1FD37#32
  | 47 => 0x3EDF3365#32
  | 48 => 0x3F158A92#32
  | 49 => 0x4008635B#32
  | 50 => 0xBF947E69#32
  | 51 => 0x3E9E4411#32
  | 52 => 0x3FEA7FFB#32
  | 53 => 0x3F8871BB#32
  | 54 => 0xBFD93C52#32
  | 55 => 0x403813DC#32
  | 56 => 0x3F8C96C2#32
  | 57 => 0xBF81DA34#32
  | 58 => 0x3FFA73A5#32
  | 59 => 0x3FE8F114#32
  | 60 => 0x3FEF56D9#32
  | 61 => 0x3E6BB24B#32
  | 62 => 0xBF58D52D#32
  | 63 => 0x400A52DD#32
  | 64 => 0x400AC6DC#32
  | 65 => 0xBE3DDBE3#32
  | 66 => 0xBEDFC776#32
  | 67 => 0xBD03A570#32
  | 68 => 0xBF041A20#32
  | 69 => 0x3E8688F4#32
  | 70 => 0x3E41B8E1#32
  | 71 => 0xBF0099E8#32
  | 72 => 0x3FF9FA02#32
  | 73 => 0x3EA0074D#32
  | 74 => 0xBECD8912#32
  | 75 => 0xBC053DED#32
  | 76 => 0x3F95AF83#32
  | 77 => 0x3E89B9A3#32
  | 78 => 0xBF61CA2E#32
  | 79 => 0x3EC0209A#32
  | 80 => 0xBE76D299#32
  | 81 => 0x3EF45309#32
  | 82 => 0x3FC908A4#32
  | 83 => 0x3F1EA674#32
  | 84 => 0xBE1E8040#32
  | 85 => 0xBDA62E0E#32
  | 86 => 0x3DA4FE55#32
  | 87 => 0x3EA57570#32
  | 88 => 0xBEAB2B95#32
  | 89 => 0x3FDA3A4E#32
  | 90 => 0xBF11E098#32
  | 91 => 0x3FEB22B8#32
  | 92 => 0x3FA4BE2E#32
  | 93 => 0xBE35CFBF#32
  | 94 => 0x3FDF78B7#32
  | 95 => 0x3F01FFBA#32
  | 96 => 0x40290156#32
  | 97 => 0x3E5766D2#32
  | 98 => 0x403DE16E#32
  | 99 => 0xBF8CEF7A#32
  | 100 => 0xBE83D004#32
  | 101 => 0xBDFEF4F8#32
  | 102 => 0xBE997D7A#32
  | 103 => 0xBF640D48#32
  | 104 => 0xBF6BE54B#32
  | 105 => 0xBFB079E3#32
  | 106 => 0x40085D5F#32
  | 107 => 0xBE58FA6A#32
  | 108 => 0xBFB3DD96#32
  | 109 => 0xBFCE68BD#32
  | 110 => 0x3F9D4063#32
  | 111 => 0xBEBE7C93#32
  | 112 => 0x4025855D#32
  | 113 => 0xBF8A6E62#32
  | 114 => 0x3F2B2623#32
  | 115 => 0xBEB94FD4#32
  | 116 => 0x3F197FD6#32
  | 117 => 0x3E8D20E8#32
  | 118 => 0x3FA5B428#32
  | 119 => 0x3F10F87A#32
  | 120 => 0x3D2335FC#32
  | 121 => 0x3E4DF696#32
  | 122 => 0x3E3D135F#32
  | 123 => 0x3FE1AF55#32
  | 124 => 0x3FC5CC54#32
  | 125 => 0x3EC3EDC1#32
  | 126 => 0x3FE69DDA#32
  | 127 => 0xBEE8DE98#32
  | _ => 0#32

noncomputable abbrev lit0t0_179 (i : Nat) : BitVec 32 := match i % 128 with
  | 0 => 0x3F1522E6#32
  | 1 => 0x405463AB#32
  | 2 => 0xBE994EDF#32
  | 3 => 0xBF686054#32
  | 4 => 0xBD3C8562#32
  | 5 => 0x3F77A44F#32
  | 6 => 0xBBC50A09#32
  | 7 => 0x3F6AB9CE#32
  | 8 => 0x3EA3128D#32
  | 9 => 0x40E4C97B#32
  | 10 => 0xBDC901F0#32
  | 11 => 0xBF7080EE#32
  | 12 => 0xBE0301FF#32
  | 13 => 0x3E9AB58A#32
  | 14 => 0x3EFFEBF9#32
  | 15 => 0xBEA85DA0#32
  | 16 => 0xBF0FF9CA#32
  | 17 => 0xBF06BE0A#32
  | 18 => 0xBF903848#32
  | 19 => 0x3DC212FC#32
  | 20 => 0x3F2DC0AE#32
  | 21 => 0xBF935E4A#32
  | 22 => 0xBDD39497#32
  | 23 => 0xBE4F1E2C#32
  | 24 => 0x4042F1AF#32
  | 25 => 0x40114421#32
  | 26 => 0x3FC4E757#32
  | 27 => 0x3F8D7970#32
  | 28 => 0x3EA2F4F3#32
  | 29 => 0x3F8E82F5#32
  | 30 => 0x4031E7D1#32
  | 31 => 0x3F3BC342#32
  | 32 => 0x3EA9EA70#32
  | 33 => 0x3F4E473A#32
  | 34 => 0xBFC55264#32
  | 35 => 0x3CC09C67#32
  | 36 => 0xBDDB6209#32
  | 37 => 0x3F9BF98D#32
  | 38 => 0x3F85939E#32
  | 39 => 0x40251836#32
  | 40 => 0x3F8AFA29#32
  | 41 => 0x3FF71109#32
  | 42 => 0xBFAA60CB#32
  | 43 => 0x3F7D2103#32
  | 44 => 0x3F531433#32
  | 45 => 0x3FCBAD78#32
  | 46 => 0xBF3BFF7F#32
  | 47 => 0x3FAB7ECA#32
  | 48 => 0x3F3787E6#32
  | 49 => 0x3FDA584A#32
  | 50 => 0x40290F9B#32
  | 51 => 0x403C644A#32
  | 52 => 0x3F24ECCA#32
  | 53 => 0x3EC823F1#32
  | 54 => 0xBF1F877B#32
  | 55 => 0xBC5016C6#32
  | 56 => 0x3EEA2F9E#32
  | 57 => 0x3E9935E0#32
  | 58 => 0xBE9942DE#32
  | 59 => 0x3F5ACE8C#32
  | 60 => 0xBE0DD77D#32
  | 61 => 0x3ED7AF60#32
  | 62 => 0xBE12B4C2#32
  | 63 => 0x3BA41F0B#32
  | 64 => 0x3FB2A75D#32
  | 65 => 0x3F17557C#32
  | 66 => 0xBDDDEC08#32
  | 67 => 0x4002A3DA#32
  | 68 => 0xBE9EEAC5#32
  | 69 => 0xBF545001#32
  | 70 => 0x3FD038B0#32
  | 71 => 0x3F5D2ABE#32
  | 72 => 0x40598465#32
  | 73 => 0x3FB89D26#32
  | 74 => 0x3F008B89#32
  | 75 => 0x3F38839F#32
  | 76 => 0xBF15114C#32
  | 77 => 0x3F77F6D2#32
  | 78 => 0x3EC03D2A#32
  | 79 => 0xBD863804#32
  | 80 => 0x3F9CA06A#32
  | 81 => 0x3F8F42AB#32
  | 82 => 0x3F9F5F88#32
  | 83 => 0x3F444144#32
  | 84 => 0x3F2447AA#32
  | 85 => 0x403C7C12#32
  | 86 => 0x4049F38A#32
  | 87 => 0x3F30690D#32
  | 88 => 0xBF1F3390#32
  | 89 => 0x3EFD8DFE#32
  | 90 => 0xBEE3C746#32
  | 91 => 0x40241F89#32
  | 92 => 0x3F834C54#32
  | 93 => 0xBF1B28DA#32
  | 94 => 0xBEF978A3#32
  | 95 => 0x4004C8C5#32
  | 96 => 0xBEBFDD66#32
  | 97 => 0xBE98317E#32
  | 98 => 0xBF8995E1#32
  | 99 => 0x3EF823F4#32
  | 100 => 0x3F63DD6D#32
  | 101 => 0xBE9614A2#32
  | 102 => 0xBF39C06B#32
  | 103 => 0x3E3E25CF#32
  | 104 => 0x3F34195A#32
  | 105 => 0xBFBEE5B3#32
  | 106 => 0x40360198#32
  | 107 => 0x3F1F7E0B#32
  | 108 => 0xBE5AE02E#32
  | 109 => 0x3F3304D2#32
  | 110 => 0x3F387B21#32
  | 111 => 0x3F857717#32
  | 112 => 0x3E16483C#32
  | 113 => 0x3EC07430#32
  | 114 => 0xBE476982#32
  | 115 => 0xBF90BBAD#32
  | 116 => 0xBF01BDF7#32
  | 117 => 0x3F8DE71A#32
  | 118 => 0x3FDD69DC#32
  | 119 => 0x3FE75A07#32
  | 120 => 0x3E6FB768#32
  | 121 => 0x3E419B2B#32
  | 122 => 0xBF698874#32
  | 123 => 0xBF502925#32
  | 124 => 0x3EC2C1FF#32
  | 125 => 0xBF6EA158#32
  | 126 => 0xBF709A89#32
  | 127 => 0x4010C495#32
  | _ => 0#32

noncomputable abbrev lit0t0_180 (i : Nat) : BitVec 32 := match i % 128 with
  | 0 => 0x3F8D8A6E#32
  | 1 => 0x3FD907BE#32
  | 2 => 0xBF8255EE#32
  | 3 => 0xBFED22D7#32
  | 4 => 0xBF2B2980#32
  | 5 => 0x3F821270#32
  | 6 => 0x3FAC7507#32
  | 7 => 0xBE0F04AB#32
  | 8 => 0xBD986E2B#32
  | 9 => 0x400D154F#32
  | 10 => 0xBE81208C#32
  | 11 => 0x3EF204BD#32
  | 12 => 0x3FB6ECC6#32
  | 13 => 0xBF902D0A#32
  | 14 => 0xBE3044BE#32
  | 15 => 0xBD99FC30#32
  | 16 => 0xBEE39346#32
  | 17 => 0xBEBF0BF9#32
  | 18 => 0x3FA8534B#32
  | 19 => 0x3FED2018#32
  | 20 => 0x3E8E88AF#32
  | 21 => 0xBF046F5C#32
  | 22 => 0x3EB33138#32
  | 23 => 0x3E6F1570#32
  | 24 => 0x3FC37892#32
  | 25 => 0x3F97BFEB#32
  | 26 => 0x3EE198D6#32
  | 27 => 0x3FFE3E08#32
  | 28 => 0xBF9625D5#32
  | 29 => 0xBF8823FC#32
  | 30 => 0x4081B2A9#32
  | 31 => 0x3EB3192D#32
  | 32 => 0x3F0B7434#32
  | 33 => 0xBF58D9F0#32
  | 34 => 0x404AE3AB#32
  | 35 => 0xBEDBA5D2#32
  | 36 => 0x4011B8A7#32
  | 37 => 0xBFB56134#32
  | 38 => 0x403766FA#32
  | 39 => 0xBFA4F825#32
  | 40 => 0xBF19766A#32
  | 41 => 0x3F1CF7AA#32
  | 42 => 0xBEE702A0#32
  | 43 => 0x3FB2A529#32
  | 44 => 0xBED3FD05#32
  | 45 => 0xBF48DDC2#32
  | 46 => 0x3FB8CEF4#32
  | 47 => 0x3F46A7EA#32
  | 48 => 0x3FBE6862#32
  | 49 => 0x3F386FD2#32
  | 50 => 0xBFDF752C#32
  | 51 => 0x3F048A1E#32
  | 52 => 0xBF524558#32
  | 53 => 0x3FA66CB9#32
  | 54 => 0x400D8719#32
  | 55 => 0xBDF716DA#32
  | 56 => 0xBD8FFDA2#32
  | 57 => 0x3FFE2BFA#32
  | 58 => 0x40872E37#32
  | 59 => 0xBFCE1E49#32
  | 60 => 0x3F6FA400#32
  | 61 => 0x3F75140C#32
  | 62 => 0x40302580#32
  | 63 => 0xBF88EE3D#32
  | 64 => 0xBF0C2D9C#32
  | 65 => 0x3FCEE4A9#32
  | 66 => 0xBF610E1C#32
  | 67 => 0x3FDE86BE#32
  | 68 => 0x3F0BBEAF#32
  | 69 => 0x401A0595#32
  | 70 => 0x3F8C1A7D#32
  | 71 => 0x3FFE54B4#32
  | 72 => 0xBED96286#32
  | 73 => 0x3F65AF54#32
  | 74 => 0xBF5EB5F6#32
  | 75 => 0xBE895C5E#32
  | 76 => 0xBEF1E516#32
  | 77 => 0x408C5153#32
  | 78 => 0xBF2C7206#32
  | 79 => 0x3E55FD17#32
  | 80 => 0x3F7980C4#32
  | 81 => 0xBCF94917#32
  | 82 => 0x400ECF03#32
  | 83 => 0x3FBCD237#32
  | 84 => 0x40931A2B#32
  | 85 => 0x3FC8263A#32
  | 86 => 0x4050522C#32
  | 87 => 0xBDDFFBB7#32
  | 88 => 0xBF0F9190#32
  | 89 => 0x3FB46EC5#32
  | 90 => 0xBEEDAEF0#32
  | 91 => 0x3F8F5C6A#32
  | 92 => 0xBEAE70FE#32
  | 93 => 0x402797FB#32
  | 94 => 0xBDC5A961#32
  | 95 => 0x4014F923#32
  | 96 => 0x3F282172#32
  | 97 => 0xBF8B86DE#32
  | 98 => 0x401892C9#32
  | 99 => 0xBF61DAE0#32
  | 100 => 0x3FBA1579#32
  | 101 => 0x3FCAB667#32
  | 102 => 0x3EA6A292#32
  | 103 => 0xBE6DBA37#32
  | 104 => 0xBFA86A53#32
  | 105 => 0x4012392E#32
  | 106 => 0x3F171C78#32
  | 107 => 0x3F8BC35E#32
  | 108 => 0x3FA0E5C1#32
  | 109 => 0xBD7DC510#32
  | 110 => 0x3F5FF212#32
  | 111 => 0x3F50C938#32
  | 112 => 0xBF3D3707#32
  | 113 => 0x3F402DE5#32
  | 114 => 0x3F6C4D8C#32
  | 115 => 0x3FB9B612#32
  | 116 => 0x40040A20#32
  | 117 => 0x4074121C#32
  | 118 => 0xBF33E0C8#32
  | 119 => 0xBE572229#32
  | 120 => 0x3EE01F1C#32
  | 121 => 0x3FEDE0F4#32
  | 122 => 0x3EC10DBB#32
  | 123 => 0x3EEA8766#32
  | 124 => 0x402D5DA7#32
  | 125 => 0xBDFB9FAE#32
  | 126 => 0xBE9F4648#32
  | 127 => 0x3FEC0558#32
  | _ => 0#32

noncomputable abbrev lit0t0_181 (i : Nat) : BitVec 32 := match i % 128 with
  | 0 => 0x3E4A2253#32
  | 1 => 0x3FC39E1D#32
  | 2 => 0x40912B3D#32
  | 3 => 0xBED1428C#32
  | 4 => 0x3FA1B782#32
  | 5 => 0xBF03F8DC#32
  | 6 => 0x3ED099E5#32
  | 7 => 0x3EDE9AEC#32
  | 8 => 0x3F31ABA2#32
  | 9 => 0x3F2142EB#32
  | 10 => 0x40DD479A#32
  | 11 => 0x3FA0CDBA#32
  | 12 => 0xBE5D8E3B#32
  | 13 => 0x3FA7CA67#32
  | 14 => 0x3F8A1957#32
  | 15 => 0x40B7E74F#32
  | 16 => 0x3F2AEEED#32
  | 17 => 0x3EABA09B#32
  | 18 => 0x40142002#32
  | 19 => 0xBF876405#32
  | 20 => 0x3FADF244#32
  | 21 => 0xBF930DA3#32
  | 22 => 0x3E10A720#32
  | 23 => 0x3DCD7CA6#32
  | 24 => 0x3FE96207#32
  | 25 => 0x3DCD91F7#32
  | 26 => 0xBF7667CE#32
  | 27 => 0xBDD2293F#32
  | 28 => 0x400D993B#32
  | 29 => 0xBF15AD8A#32
  | 30 => 0x3E914037#32
  | 31 => 0x3EFA85A6#32
  | 32 => 0xBEAE7365#32
  | 33 => 0xBF8315F8#32
  | 34 => 0x3E8761B3#32
  | 35 => 0xBD78F619#32
  | 36 => 0xBFAD7B61#32
  | 37 => 0xBF91B6AD#32
  | 38 => 0x4003AFFB#32
  | 39 => 0xBF1BAA54#32
  | 40 => 0x3FF04273#32
  | 41 => 0xBF366E77#32
  | 42 => 0x3F4902CE#32
  | 43 => 0xBEE0520D#32
  | 44 => 0x3ED25EFD#32
  | 45 => 0x400BBB10#32
  | 46 => 0xBD145E92#32
  | 47 => 0xBF685443#32
  | 48 => 0x3F7921A2#32
  | 49 => 0xBEE80DEA#32
  | 50 => 0x3E53B9A2#32
  | 51 => 0x3FA35036#32
  | 52 => 0xBE90A0A9#32
  | 53 => 0x3F92A49C#32
  | 54 => 0x3FFD6357#32
  | 55 => 0xBF5E0767#32
  | 56 => 0x3FC6209E#32
  | 57 => 0xBFDC39AA#32
  | 58 => 0x3F302C0E#32
  | 59 => 0x4060E312#32
  | 60 => 0x3EBDD6C5#32
  | 61 => 0x402EB324#32
  | 62 => 0x3DA0DC3B#32
  | 63 => 0x40A2596B#32
  | 64 => 0xBF8C28E5#32
  | 65 => 0xBDE53DAB#32
  | 66 => 0x402CB87D#32
  | 67 => 0x3CC52573#32
  | 68 => 0x3F269B9D#32
  | 69 => 0xBF648F53#32
  | 70 => 0xBEFCB25E#32
  | 71 => 0x40034227#32
  | 72 => 0x3F043FB2#32
  | 73 => 0x3FABD5FE#32
  | 74 => 0x3E9A2CE5#32
  | 75 => 0x40128134#32
  | 76 => 0xBC2499A0#32
  | 77 => 0xBEA62B6B#32
  | 78 => 0x3DFE23FC#32
  | 79 => 0xB9A1F998#32
  | 80 => 0x4025C3FA#32
  | 81 => 0xBF2CAA90#32
  | 82 => 0x3F115450#32
  | 83 => 0xBF06E9DE#32
  | 84 => 0xBF5D90F3#32
  | 85 => 0x3FDAEAE4#32
  | 86 => 0x4034237B#32
  | 87 => 0x3F72DA4E#32
  | 88 => 0xBE64D6E1#32
  | 89 => 0x3F994A22#32
  | 90 => 0xBF9E0AD0#32
  | 91 => 0x3FDFC57A#32
  | 92 => 0xBF5D3EE3#32
  | 93 => 0xBE002727#32
  | 94 => 0xBF59303D#32
  | 95 => 0xBF38F4D0#32
  | 96 => 0x3FB5B75D#32
  | 97 => 0x3F74ACAE#32
  | 98 => 0x3F2E3907#32
  | 99 => 0x3D8B89B1#32
  | 100 => 0x402EDB9D#32
  | 101 => 0x3F7B2B05#32
  | 102 => 0x3F20E3C7#32
  | 103 => 0x40022B44#32
  | 104 => 0xBE6978DF#32
  | 105 => 0x3F7573DF#32
  | 106 => 0x3EB48E1A#32
  | 107 => 0x4004EBFB#32
  | 108 => 0x3F091A29#32
  | 109 => 0x3F6286B0#32
  | 110 => 0x3F035D02#32
  | 111 => 0x3F093226#32
  | 112 => 0x400091CB#32
  | 113 => 0x3EC7A0B4#32
  | 114 => 0x3EA39AAB#32
  | 115 => 0x3E0909A4#32
  | 116 => 0x3F466B4F#32
  | 117 => 0x3E530FF8#32
  | 118 => 0x3E1C0F44#32
  | 119 => 0x3E95DEB6#32
  | 120 => 0x3F4580AA#32
  | 121 => 0x3F77DA56#32
  | 122 => 0x3ED4E14A#32
  | 123 => 0x3FDD15F6#32
  | 124 => 0xBF402BA7#32
  | 125 => 0x3F745C50#32
  | 126 => 0x3F4F5624#32
  | 127 => 0x3F94100C#32
  | _ => 0#32

noncomputable abbrev lit0t0_182 (i : Nat) : BitVec 32 := match i % 128 with
  | 0 => 0x3FCCBF6A#32
  | 1 => 0x3EE3BF72#32
  | 2 => 0x3F39627F#32
  | 3 => 0x3E796F88#32
  | 4 => 0x3EE2ECF2#32
  | 5 => 0x3F47D11A#32
  | 6 => 0x40370F30#32
  | 7 => 0x3EDFC67F#32
  | 8 => 0xBF206D63#32
  | 9 => 0xBD65310C#32
  | 10 => 0x3FD00BEA#32
  | 11 => 0xBF35325E#32
  | 12 => 0x3FB9F9BC#32
  | 13 => 0xBFA12305#32
  | 14 => 0x3FF8AF82#32
  | 15 => 0xBF09D5E6#32
  | 16 => 0x3ECED7C0#32
  | 17 => 0x3FFF128A#32
  | 18 => 0xBEDFD420#32
  | 19 => 0x3E056932#32
  | 20 => 0x3F6ACFE0#32
  | 21 => 0xBE91B955#32
  | 22 => 0x3F92EC17#32
  | 23 => 0x400FF823#32
  | 24 => 0x3EC98976#32
  | 25 => 0x3F7276F4#32
  | 26 => 0xBFB2D9D8#32
  | 27 => 0x3F329136#32
  | 28 => 0xBEE34D16#32
  | 29 => 0xBE03A184#32
  | 30 => 0x3F7A1BC0#32
  | 31 => 0x3FF3AA17#32
  | 32 => 0xBE6AA58F#32
  | 33 => 0x3F970EE6#32
  | 34 => 0xBF884F5A#32
  | 35 => 0x3F915F36#32
  | 36 => 0x3FA26755#32
  | 37 => 0xBE7531D5#32
  | 38 => 0x409AE4F8#32
  | 39 => 0xBF2A0B3E#32
  | 40 => 0x401D54B4#32
  | 41 => 0xBE48475B#32
  | 42 => 0x404DAE29#32
  | 43 => 0xBF87FA0B#32
  | 44 => 0x3F868344#32
  | 45 => 0x3FFC02B4#32
  | 46 => 0x3FAFBD51#32
  | 47 => 0xBD2A3E7A#32
  | 48 => 0xBEDAEFCE#32
  | 49 => 0xBE677D0D#32
  | 50 => 0x3FA86131#32
  | 51 => 0x4006CEF4#32
  | 52 => 0x3ED15A42#32
  | 53 => 0x3EC56857#32
  | 54 => 0x3FD2B496#32
  | 55 => 0x3F4C0BF1#32
  | 56 => 0x3EEB7F2E#32
  | 57 => 0xBFAFDCCE#32
  | 58 => 0x3EE7502E#32
  | 59 => 0x3FA048FA#32
  | 60 => 0x3FD35F0A#32
  | 61 => 0xBFA17352#32
  | 62 => 0xBEB9F5BF#32
  | 63 => 0xBEFA7360#32
  | 64 => 0xBD6058E6#32
  | 65 => 0xBE018702#32
  | 66 => 0x3FD68116#32
  | 67 => 0x3DFF59BE#32
  | 68 => 0x3F008152#32
  | 69 => 0x3ED18618#32
  | 70 => 0x3D2F152F#32
  | 71 => 0x3FBB9D9F#32
  | 72 => 0x3FE36BA0#32
  | 73 => 0x3EBF59C7#32
  | 74 => 0x3F8C19F4#32
  | 75 => 0x3F915C0C#32
  | 76 => 0xBD6B4416#32
  | 77 => 0x3DFDE99C#32
  | 78 => 0x4011B2BA#32
  | 79 => 0xBF9CD3F7#32
  | 80 => 0x3FF0B3AC#32
  | 81 => 0x3FE5F2A4#32
  | 82 => 0xBF9195B9#32
  | 83 => 0xBF80B5D4#32
  | 84 => 0x3DDE7924#32
  | 85 => 0xBFB1055F#32
  | 86 => 0xBF23844C#32
  | 87 => 0x3F761670#32
  | 88 => 0x3D1B1D1B#32
  | 89 => 0x3FB0FEF0#32
  | 90 => 0x3F958CD4#32
  | 91 => 0xBD06D1F4#32
  | 92 => 0x3F661213#32
  | 93 => 0x3F9D0060#32
  | 94 => 0x3F298281#32
  | 95 => 0xBEBC88D0#32
  | 96 => 0x3FD0F63C#32
  | 97 => 0xBD2D6BA3#32
  | 98 => 0xBF5C2B69#32
  | 99 => 0xBF00678B#32
  | 100 => 0xBEF7E73E#32
  | 101 => 0x3F21B0A5#32
  | 102 => 0x3F973658#32
  | 103 => 0xBF93FFDE#32
  | 104 => 0x3F85631F#32
  | 105 => 0xBE3CC791#32
  | 106 => 0x3FC60152#32
  | 107 => 0x3E60099A#32
  | 108 => 0x4004EDD1#32
  | 109 => 0x3E57AA61#32
  | 110 => 0x3F88D1C2#32
  | 111 => 0xBFA69EEC#32
  | 112 => 0xBE4E3910#32
  | 113 => 0xBF81BB52#32
  | 114 => 0x3FA0D5F4#32
  | 115 => 0xBF6E60A7#32
  | 116 => 0xBF4F4938#32
  | 117 => 0x3F66D882#32
  | 118 => 0x3F65C3C2#32
  | 119 => 0x3F418A86#32
  | 120 => 0x3F6BE9EC#32
  | 121 => 0x3F95AE96#32
  | 122 => 0xBDDA3906#32
  | 123 => 0x40034926#32
  | 124 => 0xBF53C3E8#32
  | 125 => 0x3F9192B9#32
  | 126 => 0x3EABACE3#32
  | 127 => 0xBB9E9699#32
  | _ => 0#32

noncomputable abbrev lit0t0_183 (i : Nat) : BitVec 32 := match i % 128 with
  | 0 => 0x3E8724C8#32
  | 1 => 0x3E1CFC15#32
  | 2 => 0x3FAA2B87#32
  | 3 => 0xBF93BB08#32
  | 4 => 0xBF52F37C#32
  | 5 => 0x3EAAA53B#32
  | 6 => 0x40828A4D#32
  | 7 => 0x3F8A3DFE#32
  | 8 => 0x3F529FFC#32
  | 9 => 0x3EFF43BB#32
  | 10 => 0x3F677FE1#32
  | 11 => 0xBFA8E65B#32
  | 12 => 0x4037A0A8#32
  | 13 => 0x40452392#32
  | 14 => 0x3E6BD856#32
  | 15 => 0x3EFCF759#32
  | 16 => 0xBD6DF449#32
  | 17 => 0xBF39510A#32
  | 18 => 0x3E41B029#32
  | 19 => 0x3F317610#32
  | 20 => 0x3EAC5E0A#32
  | 21 => 0xBFC2FEDF#32
  | 22 => 0x3F70D2A3#32
  | 23 => 0x3EE7726E#32
  | 24 => 0x3F36B6C1#32
  | 25 => 0xBFBDE693#32
  | 26 => 0x3ECED662#32
  | 27 => 0x400DD32B#32
  | 28 => 0x3F7D9404#32
  | 29 => 0x3F3B95C6#32
  | 30 => 0x3DA3F865#32
  | 31 => 0x3F265147#32
  | 32 => 0x404B5FF1#32
  | 33 => 0x40499C3E#32
  | 34 => 0xBFB7D9BE#32
  | 35 => 0x3F1B872E#32
  | 36 => 0xBF41C067#32
  | 37 => 0xBED8ADA6#32
  | 38 => 0x401E208D#32
  | 39 => 0xBF301C98#32
  | 40 => 0xBD829122#32
  | 41 => 0x3FC92FE8#32
  | 42 => 0xBEC6AF7C#32
  | 43 => 0xBF68D5FC#32
  | 44 => 0xBF6F3CA6#32
  | 45 => 0xBF2A6B66#32
  | 46 => 0x3FE5D1FE#32
  | 47 => 0x3F1A201A#32
  | 48 => 0x3F8E5C0B#32
  | 49 => 0x3F32270A#32
  | 50 => 0xBEF44E46#32
  | 51 => 0x3EE10EB5#32
  | 52 => 0xBF89D198#32
  | 53 => 0xBE358E31#32
  | 54 => 0x3E0A419E#32
  | 55 => 0x3E1F2F83#32
  | 56 => 0xBEC1ED0E#32
  | 57 => 0xBDA9EA75#32
  | 58 => 0xBF10E598#32
  | 59 => 0x3F22DEDB#32
  | 60 => 0xBEA33B2B#32
  | 61 => 0x3F8C94A5#32
  | 62 => 0x402FA2E0#32
  | 63 => 0x40215650#32
  | 64 => 0x3E97E658#32
  | 65 => 0xBE8B99B5#32
  | 66 => 0x3F7C21A4#32
  | 67 => 0xBEAE1FFF#32
  | 68 => 0x3EAB55CB#32
  | 69 => 0xBF5BD314#32
  | 70 => 0x3F8B3160#32
  | 71 => 0xBF74A4CF#32
  | 72 => 0xBF4B9190#32
  | 73 => 0xBF8530AC#32
  | 74 => 0x3F42FEC4#32
  | 75 => 0x3F1ABB57#32
  | 76 => 0xBF286ECC#32
  | 77 => 0x400D807F#32
  | 78 => 0xBF422E42#32
  | 79 => 0xBE2D2A65#32
  | 80 => 0x3F8C7074#32
  | 81 => 0x3F518DB8#32
  | 82 => 0xBF98E0E2#32
  | 83 => 0xBFBCF4CC#32
  | 84 => 0xBE8093A2#32
  | 85 => 0x4027F09D#32
  | 86 => 0x4003ED47#32
  | 87 => 0x3FD8511D#32
  | 88 => 0x3FA18B00#32
  | 89 => 0x3F82DCA9#32
  | 90 => 0xBD863AC4#32
  | 91 => 0x3F92E2A0#32
  | 92 => 0xBDF66B27#32
  | 93 => 0x3AB5B83C#32
  | 94 => 0xBF4C9551#32
  | 95 => 0xBD389A04#32
  | 96 => 0x3E0F0A92#32
  | 97 => 0x3F68457E#32
  | 98 => 0x405C95E6#32
  | 99 => 0xBD29D9DE#32
  | 100 => 0xBF7EA708#32
  | 101 => 0xBE213571#32
  | 102 => 0x3EF46ABC#32
  | 103 => 0x3F5B0E62#32
  | 104 => 0x3F040353#32
  | 105 => 0x3F0A430A#32
  | 106 => 0x3EB86037#32
  | 107 => 0x3FE53388#32
  | 108 => 0x3E019751#32
  | 109 => 0xBF0BCB88#32
  | 110 => 0x40269F5F#32
  | 111 => 0xBF55DC40#32
  | 112 => 0xBDA71870#32
  | 113 => 0xBF0E807A#32
  | 114 => 0xBEB001BF#32
  | 115 => 0xBEB93E20#32
  | 116 => 0x3FB94BD8#32
  | 117 => 0x3E7CF18D#32
  | 118 => 0x40979240#32
  | 119 => 0x402349AE#32
  | 120 => 0x3ECC0DBC#32
  | 121 => 0x3FDD6AB4#32
  | 122 => 0xBEDC6114#32
  | 123 => 0x3E366CF3#32
  | 124 => 0x3E9D156E#32
  | 125 => 0x3DE95609#32
  | 126 => 0x3EE61C20#32
  | 127 => 0x3F1E3EE4#32
  | _ => 0#32

noncomputable abbrev lit0t0_184 (i : Nat) : BitVec 32 := match i % 128 with
  | 0 => 0x3E80FB56#32
  | 1 => 0x3F987CCF#32
  | 2 => 0xBE43F289#32
  | 3 => 0xBF3B225A#32
  | 4 => 0xBF108BA6#32
  | 5 => 0x3EAB99F2#32
  | 6 => 0xBE7C8BF0#32
  | 7 => 0xBEC1215E#32
  | 8 => 0xBF249A52#32
  | 9 => 0x3FAA019F#32
  | 10 => 0x3F7A5CB2#32
  | 11 => 0x40142F06#32
  | 12 => 0x4057D786#32
  | 13 => 0x3E0B9436#32
  | 14 => 0xBDE366C5#32
  | 15 => 0x3F81B75C#32
  | 16 => 0x3E7645B4#32
  | 17 => 0xBE6357AD#32
  | 18 => 0x3F9AFBD7#32
  | 19 => 0x3EB13899#32
  | 20 => 0xBF46271C#32
  | 21 => 0xBF9E0230#32
  | 22 => 0x3F688824#32
  | 23 => 0x3F46C4B2#32
  | 24 => 0x3F25ABE8#32
  | 25 => 0x3F0BEF86#32
  | 26 => 0xBE882380#32
  | 27 => 0xBF9E8292#32
  | 28 => 0x3F8E8934#32
  | 29 => 0x3EBDD517#32
  | 30 => 0xBA67F5B8#32
  | 31 => 0x3D142505#32
  | 32 => 0xBFAC84AB#32
  | 33 => 0xBF48CB83#32
  | 34 => 0x3FC7F5F2#32
  | 35 => 0xBF24D161#32
  | 36 => 0xBF96EA78#32
  | 37 => 0x40030CD0#32
  | 38 => 0x3F2EA002#32
  | 39 => 0x3E98A564#32
  | 40 => 0xBF2EC149#32
  | 41 => 0x3FE50736#32
  | 42 => 0x3F11CE37#32
  | 43 => 0xBF3288B8#32
  | 44 => 0xBEB682EE#32
  | 45 => 0x400B4EF6#32
  | 46 => 0x3F9DA7EB#32
  | 47 => 0xBFC50C25#32
  | 48 => 0x4005CD8E#32
  | 49 => 0x3F11DC7E#32
  | 50 => 0x3E813598#32
  | 51 => 0x3EF9E714#32
  | 52 => 0xBF3936D4#32
  | 53 => 0x3F06012E#32
  | 54 => 0xBEC63198#32
  | 55 => 0x402A9F06#32
  | 56 => 0xBEF6004B#32
  | 57 => 0x4091971E#32
  | 58 => 0x40A6B6E0#32
  | 59 => 0x3F9C6E79#32
  | 60 => 0xBEF8A27D#32
  | 61 => 0x40083004#32
  | 62 => 0x402EE995#32
  | 63 => 0x3E95A179#32
  | 64 => 0x3E20EED1#32
  | 65 => 0xBF2B34C6#32
  | 66 => 0x3F770C31#32
  | 67 => 0x4020F41D#32
  | 68 => 0xBEA514CF#32
  | 69 => 0x3CEEAD04#32
  | 70 => 0x40C86C44#32
  | 71 => 0x3D6682D3#32
  | 72 => 0xBF1E3902#32
  | 73 => 0x3ED8EE10#32
  | 74 => 0x3F2A93F4#32
  | 75 => 0xBD83D1BC#32
  | 76 => 0x3F889CAD#32
  | 77 => 0x3ED65D3C#32
  | 78 => 0xBDD28AEE#32
  | 79 => 0x3FE22199#32
  | 80 => 0xBF6C7B3A#32
  | 81 => 0x3F960AB4#32
  | 82 => 0xBE257858#32
  | 83 => 0x3ED02B47#32
  | 84 => 0x3EF7EFD2#32
  | 85 => 0xBE1E9AEF#32
  | 86 => 0xBF89E955#32
  | 87 => 0x3F2A38B7#32
  | 88 => 0x3FAAEE00#32
  | 89 => 0xBE3C7D89#32
  | 90 => 0xBD426602#32
  | 91 => 0xBFA2B496#32
  | 92 => 0x3E5BBB32#32
  | 93 => 0x3F4E7DB0#32
  | 94 => 0xBEE2D632#32
  | 95 => 0xBF1AD9F2#32
  | 96 => 0x3F96E96F#32
  | 97 => 0x3D821769#32
  | 98 => 0x3FDA7280#32
  | 99 => 0xBFB2B28F#32
  | 100 => 0xBF0A2072#32
  | 101 => 0x3FADDBEB#32
  | 102 => 0xBF945E42#32
  | 103 => 0x3FDA673A#32
  | 104 => 0x3F895E43#32
  | 105 => 0xBFACEA06#32
  | 106 => 0x403787E7#32
  | 107 => 0x3F966F3F#32
  | 108 => 0x3F12D356#32
  | 109 => 0x4058AF60#32
  | 110 => 0xBF84FA76#32
  | 111 => 0x3BA690B1#32
  | 112 => 0x3D9711AF#32
  | 113 => 0x3EBAAEB2#32
  | 114 => 0x3E86D8B4#32
  | 115 => 0xBEA47B51#32
  | 116 => 0xBF6AFA77#32
  | 117 => 0x3E9F7DC0#32
  | 118 => 0x3F59201A#32
  | 119 => 0xBCAAC4E9#32
  | 120 => 0x3DEA76C2#32
  | 121 => 0x3F8B5758#32
  | 122 => 0x3C300C44#32
  | 123 => 0xBF137952#32
  | 124 => 0xBED9C068#32
  | 125 => 0xBEC3238C#32
  | 126 => 0x3EF4514C#32
  | 127 => 0x3EB033A7#32
  | _ => 0#32

noncomputable abbrev lit0t0_185 (i : Nat) : BitVec 32 := match i % 128 with
  | 0 => 0x3D90CB82#32
  | 1 => 0xBD7B39D9#32
  | 2 => 0xBF39B8A1#32
  | 3 => 0x3E8FBC2F#32
  | 4 => 0xBDA7B834#32
  | 5 => 0x3FAB0298#32
  | 6 => 0x3F037EB0#32
  | 7 => 0xBE7F1A79#32
  | 8 => 0xBED197E6#32
  | 9 => 0x3EBCC24E#32
  | 10 => 0x40101D33#32
  | 11 => 0xBEC38D74#32
  | 12 => 0x3FF1EBE6#32
  | 13 => 0xBF582E19#32
  | 14 => 0x40B089C2#32
  | 15 => 0x3F9F00A1#32
  | 16 => 0xBEDCD763#32
  | 17 => 0x3FE38FEC#32
  | 18 => 0x3E66EC0B#32
  | 19 => 0x3FBD923C#32
  | 20 => 0xBF871F8A#32
  | 21 => 0xBE9FFC87#32
  | 22 => 0xBE94D18D#32
  | 23 => 0xBEE993E2#32
  | 24 => 0x3E9A39DC#32
  | 25 => 0x3F15BFE6#32
  | 26 => 0x3F6880C8#32
  | 27 => 0x3FFFF76E#32
  | 28 => 0x3FA112BE#32
  | 29 => 0xBD0A6BEE#32
  | 30 => 0x4029EA24#32
  | 31 => 0x4023D050#32
  | 32 => 0x3E04AEDA#32
  | 33 => 0xBEBC8F2E#32
  | 34 => 0x3FA6B352#32
  | 35 => 0xBFFAB0F2#32
  | 36 => 0x3DA1FDC5#32
  | 37 => 0xBFA7AB66#32
  | 38 => 0x40863B83#32
  | 39 => 0xBE726886#32
  | 40 => 0xBE813C05#32
  | 41 => 0xBF15013F#32
  | 42 => 0xBF40016D#32
  | 43 => 0x3FB75611#32
  | 44 => 0xBF15DB72#32
  | 45 => 0x3EC0F40A#32
  | 46 => 0x3E4D6F1A#32
  | 47 => 0x3E927E6D#32
  | 48 => 0x3F28AA16#32
  | 49 => 0x3FF69F94#32
  | 50 => 0xBE538B62#32
  | 51 => 0xBFBA965E#32
  | 52 => 0x3FF28C78#32
  | 53 => 0x3EDC67B0#32
  | 54 => 0xBF4D4492#32
  | 55 => 0x3EE14BBC#32
  | 56 => 0x3E378A78#32
  | 57 => 0x3FEDF0DB#32
  | 58 => 0x3E7FB9D4#32
  | 59 => 0xBD69E8ED#32
  | 60 => 0x3F399FDB#32
  | 61 => 0x3FB14C72#32
  | 62 => 0xBF6DF685#32
  | 63 => 0x3F82FE70#32
  | 64 => 0xBDF64F9D#32
  | 65 => 0xBF595549#32
  | 66 => 0xBE6A79D8#32
  | 67 => 0x3F840CFA#32
  | 68 => 0xBF26C931#32
  | 69 => 0xBF5648BA#32
  | 70 => 0x3F4503B2#32
  | 71 => 0x3F3044F5#32
  | 72 => 0x4029E420#32
  | 73 => 0x3F32BF83#32
  | 74 => 0x3ECBA918#32
  | 75 => 0x400FC00E#32
  | 76 => 0x40073D32#32
  | 77 => 0xBF816CE6#32
  | 78 => 0x3FF776D0#32
  | 79 => 0x3EDBF7B0#32
  | 80 => 0x3F81FAA8#32
  | 81 => 0x405EE030#32
  | 82 => 0x400C9A83#32
  | 83 => 0x3DBB0887#32
  | 84 => 0x3FA584BF#32
  | 85 => 0x3FA65EEE#32
  | 86 => 0xBE177CA0#32
  | 87 => 0xBF5D960C#32
  | 88 => 0xBEBE6F64#32
  | 89 => 0xBF1BB67A#32
  | 90 => 0xBF165842#32
  | 91 => 0x3FC73813#32
  | 92 => 0x3D354776#32
  | 93 => 0x3E7AB22D#32
  | 94 => 0x3EA6FA60#32
  | 95 => 0xBF0F90E5#32
  | 96 => 0xBD101DE5#32
  | 97 => 0x3F21CF67#32
  | 98 => 0xBF3E69AD#32
  | 99 => 0x40B5752F#32
  | 100 => 0xBDB324FB#32
  | 101 => 0x3F94A554#32
  | 102 => 0x4031843C#32
  | 103 => 0x3F88AE72#32
  | 104 => 0x400BA8A4#32
  | 105 => 0x3F3F79A4#32
  | 106 => 0x3E319C45#32
  | 107 => 0xBF4DBF1F#32
  | 108 => 0xBD4B80FD#32
  | 109 => 0xBE42DFFB#32
  | 110 => 0xBF9B02AD#32
  | 111 => 0xBE374B04#32
  | 112 => 0xBF911010#32
  | 113 => 0x408C3C2C#32
  | 114 => 0xBFA845C8#32
  | 115 => 0x3F722104#32
  | 116 => 0xBF91D23C#32
  | 117 => 0x3F842B82#32
  | 118 => 0x401CA81B#32
  | 119 => 0xBF68D5AF#32
  | 120 => 0x3F53EECE#32
  | 121 => 0x3F7C1C34#32
  | 122 => 0x3EAE59B2#32
  | 123 => 0xBF49B710#32
  | 124 => 0xBFB66D37#32
  | 125 => 0x3F9881FC#32
  | 126 => 0xBF0BB12F#32
  | 127 => 0x3F45B63C#32
  | _ => 0#32

noncomputable abbrev lit0t0_186 (i : Nat) : BitVec 32 := match i % 128 with
  | 0 => 0x40304F32#32
  | 1 => 0xBEDC7387#32
  | 2 => 0x3FC3CFD4#32
  | 3 => 0x3F9ABC0A#32
  | 4 => 0x3F874B02#32
  | 5 => 0x3FBC83A8#32
  | 6 => 0xBEDE2210#32
  | 7 => 0x3F1F1E68#32
  | 8 => 0x3F93E7DF#32
  | 9 => 0x3EB9EDFC#32
  | 10 => 0x3EAD853F#32
  | 11 => 0x3E88F58C#32
  | 12 => 0x40245209#32
  | 13 => 0x3EB93116#32
  | 14 => 0xBF034882#32
  | 15 => 0x3FC4B355#32
  | 16 => 0x3F7C7244#32
  | 17 => 0x3FEBF9F3#32
  | 18 => 0x3F436BEE#32
  | 19 => 0x3E8688E9#32
  | 20 => 0xBF8372AE#32
  | 21 => 0x3F66351B#32
  | 22 => 0xBF12BEF2#32
  | 23 => 0xBF1C92F6#32
  | 24 => 0xBCFED400#32
  | 25 => 0x3E0E69A7#32
  | 26 => 0xBF5EFD43#32
  | 27 => 0xBEBD497A#32
  | 28 => 0x3C1FF033#32
  | 29 => 0xBFBE76B6#32
  | 30 => 0xBF0E0E96#32
  | 31 => 0xBF510649#32
  | 32 => 0x40028746#32
  | 33 => 0xBF97D07F#32
  | 34 => 0x402E0F6F#32
  | 35 => 0xBE68D597#32
  | 36 => 0xBE72ABC6#32
  | 37 => 0x3FB5E764#32
  | 38 => 0xBF99FF4D#32
  | 39 => 0xBF28FAAF#32
  | 40 => 0x3F40F643#32
  | 41 => 0x40068257#32
  | 42 => 0x3FCD6A96#32
  | 43 => 0xBF2BDE6E#32
  | 44 => 0x3F7634C9#32
  | 45 => 0xBF3A0EBA#32
  | 46 => 0xBF52FBD3#32
  | 47 => 0xBE202F7C#32
  | 48 => 0xBE06E2F7#32
  | 49 => 0xBF10F9F6#32
  | 50 => 0x3FCB6EBE#32
  | 51 => 0xBF9139DA#32
  | 52 => 0x4083E6B3#32
  | 53 => 0xBEDA0BE2#32
  | 54 => 0xBF05F4B4#32
  | 55 => 0x3FBAD2D7#32
  | 56 => 0x3F8C63A2#32
  | 57 => 0x400F79EA#32
  | 58 => 0x4017C444#32
  | 59 => 0xBEE5E0CC#32
  | 60 => 0x3FA570EA#32
  | 61 => 0xBE7543E3#32
  | 62 => 0x3EFDECB2#32
  | 63 => 0x3EB714C2#32
  | 64 => 0x3F2D641F#32
  | 65 => 0x3FDE078C#32
  | 66 => 0xBFB22649#32
  | 67 => 0xBE97967E#32
  | 68 => 0xBF374DC6#32
  | 69 => 0x3F6D1F7E#32
  | 70 => 0xBE84914D#32
  | 71 => 0xBE81B10D#32
  | 72 => 0x3CFE2A02#32
  | 73 => 0xBE857054#32
  | 74 => 0xBF41CDC0#32
  | 75 => 0xBECFB92C#32
  | 76 => 0xBEC685C7#32
  | 77 => 0x3CE1DB67#32
  | 78 => 0x403E7A9E#32
  | 79 => 0xBF442D80#32
  | 80 => 0x3F7BBEFC#32
  | 81 => 0xBF960126#32
  | 82 => 0x3DFFF47F#32
  | 83 => 0x3E8A96C7#32
  | 84 => 0x3FAC150D#32
  | 85 => 0x40036232#32
  | 86 => 0x3E76D8B5#32
  | 87 => 0xBF6CC335#32
  | 88 => 0x3F5099FC#32
  | 89 => 0x3FA0F116#32
  | 90 => 0x3E9DB132#32
  | 91 => 0x3C90BB21#32
  | 92 => 0x40252E2F#32
  | 93 => 0x3F316EEC#32
  | 94 => 0x3C8D6D9D#32
  | 95 => 0x3FB2B525#32
  | 96 => 0xBE8F31C1#32
  | 97 => 0xBF5401D4#32
  | 98 => 0x3FF28528#32
  | 99 => 0x3FC55260#32
  | 100 => 0xBF3D9A8A#32
  | 101 => 0x3EA21B33#32
  | 102 => 0x3FD89F0C#32
  | 103 => 0xBDA15F90#32
  | 104 => 0x3F831455#32
  | 105 => 0x3F8A08FC#32
  | 106 => 0x3FB2AA12#32
  | 107 => 0x3F22E578#32
  | 108 => 0x3FD7AB4A#32
  | 109 => 0xBF746916#32
  | 110 => 0x3D07DC1C#32
  | 111 => 0x3F6A357F#32
  | 112 => 0x3F9C58D9#32
  | 113 => 0x3E189434#32
  | 114 => 0xBD2CA086#32
  | 115 => 0xBD168FF5#32
  | 116 => 0x3E95BD77#32
  | 117 => 0x3D6871A4#32
  | 118 => 0xBEF95275#32
  | 119 => 0x3FC57AB3#32
  | 120 => 0xBF8DD1DC#32
  | 121 => 0x3F39F7A7#32
  | 122 => 0xBEF70D37#32
  | 123 => 0xBEBD7C36#32
  | 124 => 0x3DCAB679#32
  | 125 => 0xBB07BFFC#32
  | 126 => 0x3F55DFB6#32
  | 127 => 0x3F4AF055#32
  | _ => 0#32

noncomputable abbrev lit0t0_187 (i : Nat) : BitVec 32 := match i % 128 with
  | 0 => 0x3ECF6420#32
  | 1 => 0xBF77F086#32
  | 2 => 0x4077FF98#32
  | 3 => 0xBF4A9211#32
  | 4 => 0x3F27D8DE#32
  | 5 => 0xBD0D5D04#32
  | 6 => 0x3FDAD9BC#32
  | 7 => 0x3E2C7CCF#32
  | 8 => 0x3D5AAC96#32
  | 9 => 0xBEB11935#32
  | 10 => 0x3E1A48E3#32
  | 11 => 0x3F97AD18#32
  | 12 => 0x3FD3BCEE#32
  | 13 => 0xBEB89D4F#32
  | 14 => 0x3FD80E7E#32
  | 15 => 0x4030BC49#32
  | 16 => 0x3FDFCD83#32
  | 17 => 0x3F7EABAE#32
  | 18 => 0xBFBC239C#32
  | 19 => 0x3F9EBA24#32
  | 20 => 0x3F9B1CBC#32
  | 21 => 0xBC06FFBA#32
  | 22 => 0x3F49871B#32
  | 23 => 0x3F6BEC60#32
  | 24 => 0xBF222C73#32
  | 25 => 0x406C7BF4#32
  | 26 => 0xBEB76539#32
  | 27 => 0xBEA3386E#32
  | 28 => 0xBF0FB06D#32
  | 29 => 0xBF098A12#32
  | 30 => 0x3F26A7CE#32
  | 31 => 0x3FB0D68E#32
  | 32 => 0x403E8D6A#32
  | 33 => 0x3F6B77B9#32
  | 34 => 0xBF08AFCF#32
  | 35 => 0xBF3B1165#32
  | 36 => 0x3F5806A3#32
  | 37 => 0x4058A50F#32
  | 38 => 0x3E9F2A9A#32
  | 39 => 0xBCD173A7#32
  | 40 => 0x3F386391#32
  | 41 => 0x3FED67D6#32
  | 42 => 0xBEFB95B6#32
  | 43 => 0xBEC5895D#32
  | 44 => 0xBF97957C#32
  | 45 => 0x3FBD1FC2#32
  | 46 => 0x3F9083AA#32
  | 47 => 0xBE85CFA1#32
  | 48 => 0x4020DDEC#32
  | 49 => 0xBF228D1C#32
  | 50 => 0xBE625EBA#32
  | 51 => 0xBF2528E7#32
  | 52 => 0x3F861BE5#32
  | 53 => 0x4012AA11#32
  | 54 => 0xBF141A38#32
  | 55 => 0xBE61281F#32
  | 56 => 0x401B8918#32
  | 57 => 0xBF5EA626#32
  | 58 => 0xBF2A1D4A#32
  | 59 => 0x3F1D219E#32
  | 60 => 0x403234EB#32
  | 61 => 0x3F849334#32
  | 62 => 0xBF05F668#32
  | 63 => 0x3F0BB1EE#32
  | 64 => 0x3E222AB3#32
  | 65 => 0x40129FA9#32
  | 66 => 0x3F4E0A5B#32
  | 67 => 0x3D25540B#32
  | 68 => 0x3FB77159#32
  | 69 => 0x3E822842#32
  | 70 => 0xBE20EAFF#32
  | 71 => 0xBECEA9AA#32
  | 72 => 0x3F276D49#32
  | 73 => 0x3F6BD959#32
  | 74 => 0x3EF914ED#32
  | 75 => 0x3FD05734#32
  | 76 => 0x3F6BA718#32
  | 77 => 0x3F9FA981#32
  | 78 => 0x3EBDD934#32
  | 79 => 0x3F0C583A#32
  | 80 => 0xBF2CFA79#32
  | 81 => 0x3EA91112#32
  | 82 => 0x3EE2F789#32
  | 83 => 0x3E9EEF74#32
  | 84 => 0x3FDF3454#32
  | 85 => 0x40CDB39A#32
  | 86 => 0xBE407983#32
  | 87 => 0x3DDB22E5#32
  | 88 => 0x40605D8D#32
  | 89 => 0x3F916D81#32
  | 90 => 0x40874E71#32
  | 91 => 0x3F36966E#32
  | 92 => 0x40147261#32
  | 93 => 0xBE1948C3#32
  | 94 => 0x4074B032#32
  | 95 => 0x40062A22#32
  | 96 => 0x4000032B#32
  | 97 => 0x3EDF088D#32
  | 98 => 0x3FF8D148#32
  | 99 => 0xBFA06086#32
  | 100 => 0xBE14FA5D#32
  | 101 => 0x404A8723#32
  | 102 => 0x3FD24417#32
  | 103 => 0x400EB0DD#32
  | 104 => 0x3F4D84F6#32
  | 105 => 0x3EAB0820#32
  | 106 => 0x3D241817#32
  | 107 => 0xBF1762FC#32
  | 108 => 0xBF140C9E#32
  | 109 => 0xBF30DD8C#32
  | 110 => 0x40187268#32
  | 111 => 0xBEB9A116#32
  | 112 => 0x3F9368D7#32
  | 113 => 0x3E026392#32
  | 114 => 0x3C41E899#32
  | 115 => 0x3F8DC971#32
  | 116 => 0x3FCED085#32
  | 117 => 0x3FCFFF5A#32
  | 118 => 0x3F3C4E50#32
  | 119 => 0xBEE6F1D4#32
  | 120 => 0x3E5C5ECE#32
  | 121 => 0x3F5F86FE#32
  | 122 => 0x3F941882#32
  | 123 => 0x3FDF15D8#32
  | 124 => 0x3F8E9769#32
  | 125 => 0x3F91CFC2#32
  | 126 => 0x4074A7FA#32
  | 127 => 0x3F690B12#32
  | _ => 0#32

noncomputable abbrev lit0t0_188 (i : Nat) : BitVec 32 := match i % 128 with
  | 0 => 0x40181A4E#32
  | 1 => 0x3F1EBE94#32
  | 2 => 0x3F509100#32
  | 3 => 0xBF144920#32
  | 4 => 0xBF7408B6#32
  | 5 => 0xBF598747#32
  | 6 => 0x3E0D9BB8#32
  | 7 => 0x3F18D350#32
  | 8 => 0xBF16DEFC#32
  | 9 => 0xBF86B375#32
  | 10 => 0xBE596132#32
  | 11 => 0x3EED4504#32
  | 12 => 0x3FB8A9A6#32
  | 13 => 0x3F3D58E6#32
  | 14 => 0x3E2CFD9E#32
  | 15 => 0x3F700E00#32
  | 16 => 0x4011D686#32
  | 17 => 0xBD883703#32
  | 18 => 0xBF8DAA54#32
  | 19 => 0x3F2638F7#32
  | 20 => 0xBEBDE1F5#32
  | 21 => 0xBF44C887#32
  | 22 => 0xBF8FE350#32
  | 23 => 0xBEA46666#32
  | 24 => 0xBD1A5B5E#32
  | 25 => 0x3F9FC3AA#32
  | 26 => 0xBF314E6A#32
  | 27 => 0x3FA82225#32
  | 28 => 0xBE1F8EBD#32
  | 29 => 0xBEF7483E#32
  | 30 => 0x3F640911#32
  | 31 => 0x40174A07#32
  | 32 => 0xBCE77DFC#32
  | 33 => 0xBF2BF4C8#32
  | 34 => 0x3DCE0483#32
  | 35 => 0x403D52BD#32
  | 36 => 0x401D2D97#32
  | 37 => 0xBE847764#32
  | 38 => 0x3FA7648A#32
  | 39 => 0x3FD02EF7#32
  | 40 => 0xBF4DA3A4#32
  | 41 => 0x3FEA9CAF#32
  | 42 => 0xC01654D2#32
  | 43 => 0x3F2C9D02#32
  | 44 => 0x3E9F2AC5#32
  | 45 => 0x3FEAB9AA#32
  | 46 => 0x404D58B5#32
  | 47 => 0x3F9F3782#32
  | 48 => 0xBF0A10F4#32
  | 49 => 0xBFB0208A#32
  | 50 => 0x3F91B0FA#32
  | 51 => 0xBE1E48F0#32
  | 52 => 0x3F26AA94#32
  | 53 => 0xBFB44C0D#32
  | 54 => 0x3FADD65D#32
  | 55 => 0xBEBE2F11#32
  | 56 => 0x3E710BDC#32
  | 57 => 0xBE9A2530#32
  | 58 => 0x3DD7D066#32
  | 59 => 0x3F9126A4#32
  | 60 => 0x3EAF5B01#32
  | 61 => 0x3E83959A#32
  | 62 => 0x3F6A416F#32
  | 63 => 0x3E86B30B#32
  | 64 => 0xBEE47E4E#32
  | 65 => 0xBD87B6A3#32
  | 66 => 0x3E90FB65#32
  | 67 => 0xBF9EF72C#32
  | 68 => 0x3EF09C5E#32
  | 69 => 0x4006DF42#32
  | 70 => 0xBDB32A97#32
  | 71 => 0x3F93F8C9#32
  | 72 => 0x4087066D#32
  | 73 => 0x40CB785F#32
  | 74 => 0x3F04AE31#32
  | 75 => 0x400A0A2F#32
  | 76 => 0x3F3FC061#32
  | 77 => 0x400CA7B6#32
  | 78 => 0xBE83B9D4#32
  | 79 => 0x401A5D36#32
  | 80 => 0xBEABDF8E#32
  | 81 => 0x3F12380C#32
  | 82 => 0x3F302BCC#32
  | 83 => 0xBF2291CE#32
  | 84 => 0x3F30199A#32
  | 85 => 0x3FEE83CD#32
  | 86 => 0xBF09C196#32
  | 87 => 0x3F8DF48A#32
  | 88 => 0xBF101C38#32
  | 89 => 0x3F8BF4A5#32
  | 90 => 0x3D612D84#32
  | 91 => 0x3E12BDD2#32
  | 92 => 0xBFD5149F#32
  | 93 => 0xBF5F0FBD#32
  | 94 => 0xBDA1A82B#32
  | 95 => 0x3E469732#32
  | 96 => 0xBE50F6F2#32
  | 97 => 0x400D7B21#32
  | 98 => 0x3F2D375A#32
  | 99 => 0xBF0D6B6E#32
  | 100 => 0xBF5654DC#32
  | 101 => 0x3F50C366#32
  | 102 => 0x40083290#32
  | 103 => 0x3D9D55AD#32
  | 104 => 0x3F509AC0#32
  | 105 => 0x3FBCD989#32
  | 106 => 0x3C2EBDB5#32
  | 107 => 0x3F16A491#32
  | 108 => 0xBD8237C2#32
  | 109 => 0x3FC19C61#32
  | 110 => 0xBEB89A7A#32
  | 111 => 0xBEF189E4#32
  | 112 => 0xBDAB0345#32
  | 113 => 0x3E5D20A5#32
  | 114 => 0x3E8BD68A#32
  | 115 => 0x3FE4514C#32
  | 116 => 0x40221B75#32
  | 117 => 0x3F1CB394#32
  | 118 => 0x3F67950E#32
  | 119 => 0x3FDB1A44#32
  | 120 => 0x3E91988E#32
  | 121 => 0xBE90B874#32
  | 122 => 0x4008BBE7#32
  | 123 => 0xBF0953EC#32
  | 124 => 0x3F01766A#32
  | 125 => 0xBEC50197#32
  | 126 => 0xBECB0536#32
  | 127 => 0x3FF09FC8#32
  | _ => 0#32

noncomputable abbrev lit0t0_189 (i : Nat) : BitVec 32 := match i % 128 with
  | 0 => 0x3F16BA3E#32
  | 1 => 0xBD66709C#32
  | 2 => 0x3F259340#32
  | 3 => 0xBE89626D#32
  | 4 => 0x3F5764D3#32
  | 5 => 0x400D1A7D#32
  | 6 => 0x4027A06D#32
  | 7 => 0x3FA47342#32
  | 8 => 0xBE296FAF#32
  | 9 => 0x4023F0EC#32
  | 10 => 0x40BB2BEC#32
  | 11 => 0x3F5DF3E0#32
  | 12 => 0xBE8FA36B#32
  | 13 => 0x3ECEE816#32
  | 14 => 0x3FADEA58#32
  | 15 => 0x405720F5#32
  | 16 => 0x3F1E4E26#32
  | 17 => 0xBE00851B#32
  | 18 => 0xBE7B260B#32
  | 19 => 0xBDC68340#32
  | 20 => 0x3DC70A80#32
  | 21 => 0xBF6EAE9B#32
  | 22 => 0x3F39D0DB#32
  | 23 => 0xBE9B8FC9#32
  | 24 => 0xBDF5F3FF#32
  | 25 => 0x3EC01118#32
  | 26 => 0xBD8CC88F#32
  | 27 => 0x3FE49A77#32
  | 28 => 0x3F39AE1A#32
  | 29 => 0xBF90B955#32
  | 30 => 0x3F14FF40#32
  | 31 => 0x3DB84C23#32
  | 32 => 0x400937B6#32
  | 33 => 0x3FEB3452#32
  | 34 => 0x3FB238F0#32
  | 35 => 0x3E83C707#32
  | 36 => 0x3F7DDAC2#32
  | 37 => 0x3FB66077#32
  | 38 => 0x3C991CE9#32
  | 39 => 0x3FB8DB62#32
  | 40 => 0x3FBCFF15#32
  | 41 => 0xBEB2A4E7#32
  | 42 => 0xBF3DF0E2#32
  | 43 => 0x3F8AAAEA#32
  | 44 => 0x3E968C27#32
  | 45 => 0x3DBA481C#32
  | 46 => 0x3ED33D7D#32
  | 47 => 0x3EE2303F#32
  | 48 => 0xBF21C999#32
  | 49 => 0x3FBD5B49#32
  | 50 => 0x3EBB4170#32
  | 51 => 0x3FAD0C89#32
  | 52 => 0x40ECFCE3#32
  | 53 => 0x3ED3BA35#32
  | 54 => 0xBFD4E7DB#32
  | 55 => 0x3F93BC3E#32
  | 56 => 0x3F9E34F3#32
  | 57 => 0x406D2635#32
  | 58 => 0x3FD40313#32
  | 59 => 0xBF88213A#32
  | 60 => 0x3E0598B9#32
  | 61 => 0x400EBA2A#32
  | 62 => 0x3EBF71D0#32
  | 63 => 0x3F0ABFE0#32
  | 64 => 0xBE81FE34#32
  | 65 => 0x3F14E117#32
  | 66 => 0x3E027A18#32
  | 67 => 0x401282FE#32
  | 68 => 0xBF0786ED#32
  | 69 => 0x3D7C0EBD#32
  | 70 => 0xBEBF24FC#32
  | 71 => 0x3E7BE24A#32
  | 72 => 0xBEF10620#32
  | 73 => 0x3D9DE2C0#32
  | 74 => 0x3FA0E826#32
  | 75 => 0x3E54A851#32
  | 76 => 0x3EF75418#32
  | 77 => 0x40C1C180#32
  | 78 => 0x3F67D4CA#32
  | 79 => 0x3E0700CB#32
  | 80 => 0xBE81F0C0#32
  | 81 => 0xBEAC4B1F#32
  | 82 => 0x40CD67A9#32
  | 83 => 0xBBCF7980#32
  | 84 => 0x404B6D87#32
  | 85 => 0xBE096668#32
  | 86 => 0x3EC637AA#32
  | 87 => 0x3F661143#32
  | 88 => 0xBF48CE8B#32
  | 89 => 0x3F13D4CE#32
  | 90 => 0x3E3D9984#32
  | 91 => 0x3F77540E#32
  | 92 => 0x3F57FB30#32
  | 93 => 0x40AD65AF#32
  | 94 => 0x3F66E847#32
  | 95 => 0xBFA65966#32
  | 96 => 0xBF51C3EE#32
  | 97 => 0xBEDC61B2#32
  | 98 => 0x405B5D8D#32
  | 99 => 0x400286B5#32
  | 100 => 0x3FCEF6EC#32
  | 101 => 0x4043F883#32
  | 102 => 0x3F24FEB8#32
  | 103 => 0xBE490CFB#32
  | 104 => 0x3FD19574#32
  | 105 => 0x3E892F19#32
  | 106 => 0xBF274A94#32
  | 107 => 0xBF0C4123#32
  | 108 => 0xBE0B19D0#32
  | 109 => 0x3FEDBEDC#32
  | 110 => 0x3FF5E966#32
  | 111 => 0x3F075C93#32
  | 112 => 0xBEBB93A4#32
  | 113 => 0x40174AF0#32
  | 114 => 0xBEB23CC1#32
  | 115 => 0x3DFF1576#32
  | 116 => 0xBF893D72#32
  | 117 => 0xBE7E7B1E#32
  | 118 => 0xBE9A0124#32
  | 119 => 0x3F2B8B72#32
  | 120 => 0x3F00A696#32
  | 121 => 0x3DDA6B42#32
  | 122 => 0xBF04789C#32
  | 123 => 0x3D1FF525#32
  | 124 => 0x3ED4A763#32
  | 125 => 0x3FF75E3C#32
  | 126 => 0x3F8324B8#32
  | 127 => 0xBFC6CACB#32
  | _ => 0#32

noncomputable abbrev lit0t0_190 (i : Nat) : BitVec 32 := match i % 128 with
  | 0 => 0x3F563383#32
  | 1 => 0x3FFBE1B7#32
  | 2 => 0xBF3E2670#32
  | 3 => 0x3FEA2046#32
  | 4 => 0x4065BF96#32
  | 5 => 0xBF149474#32
  | 6 => 0xBF206E79#32
  | 7 => 0xBF1664E2#32
  | 8 => 0x402717EB#32
  | 9 => 0xBDA37E18#32
  | 10 => 0xBE37F738#32
  | 11 => 0x3F5A5FFE#32
  | 12 => 0xBEE98CE0#32
  | 13 => 0xBE6E52D6#32
  | 14 => 0x3F3CE0D2#32
  | 15 => 0x3FAA9342#32
  | 16 => 0xBF8DA819#32
  | 17 => 0x3ED3CDE3#32
  | 18 => 0x3EFCFE9C#32
  | 19 => 0x40313ED8#32
  | 20 => 0x3F10163E#32
  | 21 => 0x3EBBC3CE#32
  | 22 => 0x3F766B13#32
  | 23 => 0xBD13C422#32
  | 24 => 0xBF448128#32
  | 25 => 0x3F03FC50#32
  | 26 => 0xBFA82EBD#32
  | 27 => 0x40413C34#32
  | 28 => 0x3DB69A3F#32
  | 29 => 0xBEF9C326#32
  | 30 => 0xBE6ABB4E#32
  | 31 => 0x3E2AA9FA#32
  | 32 => 0x3FA8E5CA#32
  | 33 => 0xBE120C93#32
  | 34 => 0xBF96F524#32
  | 35 => 0xBE22F115#32
  | 36 => 0x3FE2E53D#32
  | 37 => 0x3F94E403#32
  | 38 => 0x3FCA722B#32
  | 39 => 0xBF0CC9BA#32
  | 40 => 0xBDE70E49#32
  | 41 => 0x3CF4A761#32
  | 42 => 0xBF686D3A#32
  | 43 => 0x3F188850#32
  | 44 => 0xBF05C6BD#32
  | 45 => 0x404FFFDE#32
  | 46 => 0x3F375114#32
  | 47 => 0xBF1B7955#32
  | 48 => 0x3F7020BE#32
  | 49 => 0xBEBCDA01#32
  | 50 => 0x3F34E007#32
  | 51 => 0x400AC1AC#32
  | 52 => 0xBF15185A#32
  | 53 => 0xBF3E641B#32
  | 54 => 0xBF22FAB3#32
  | 55 => 0xBF3A7350#32
  | 56 => 0xBE1753A7#32
  | 57 => 0x3DADD4B1#32
  | 58 => 0xBE2EDBAD#32
  | 59 => 0x40AEA1E7#32
  | 60 => 0x3FA908CD#32
  | 61 => 0x3FAE00EE#32
  | 62 => 0x4056049A#32
  | 63 => 0xBE9601E1#32
  | 64 => 0x3F966EB2#32
  | 65 => 0x3F10438F#32
  | 66 => 0x3F309A79#32
  | 67 => 0xBF5C8BF6#32
  | 68 => 0xBF8BC53B#32
  | 69 => 0xBF77D9AE#32
  | 70 => 0x40398890#32
  | 71 => 0x3F05526E#32
  | 72 => 0xBF87DAD4#32
  | 73 => 0x3E1C6F21#32
  | 74 => 0xBF83F087#32
  | 75 => 0xBF1EB418#32
  | 76 => 0xBF93CCC6#32
  | 77 => 0x40114ED2#32
  | 78 => 0xBEE0ED40#32
  | 79 => 0x3F51CB85#32
  | 80 => 0x3D75DEE6#32
  | 81 => 0x3ECD87E4#32
  | 82 => 0x3FA01E06#32
  | 83 => 0xBD6C3039#32
  | 84 => 0x3F43705D#32
  | 85 => 0x3E5F9272#32
  | 86 => 0xBF428AB7#32
  | 87 => 0x3E770925#32
  | 88 => 0x3FEB8DFB#32
  | 89 => 0x3F241034#32
  | 90 => 0xBE8B480A#32
  | 91 => 0xBBCF2DFA#32
  | 92 => 0xBF00AE97#32
  | 93 => 0xBE7F6B68#32
  | 94 => 0x3F300AA1#32
  | 95 => 0xBDF6A97E#32
  | 96 => 0x3F3D9474#32
  | 97 => 0xBE71579D#32
  | 98 => 0x3F2526D4#32
  | 99 => 0xBF236ABB#32
  | 100 => 0x3FCFC93C#32
  | 101 => 0xBF914CC2#32
  | 102 => 0xBEAC5246#32
  | 103 => 0xBEF28E74#32
  | 104 => 0x3FC096D2#32
  | 105 => 0x4001B8DC#32
  | 106 => 0x405028D0#32
  | 107 => 0x3FBD96EA#32
  | 108 => 0x3EA3ED0C#32
  | 109 => 0x3D75055F#32
  | 110 => 0xBC8D97AE#32
  | 111 => 0xBF866678#32
  | 112 => 0x3FF6F7C6#32
  | 113 => 0x3F0D48C3#32
  | 114 => 0xBF85EEEE#32
  | 115 => 0x3E7D5D8D#32
  | 116 => 0x401EC95E#32
  | 117 => 0xBE940586#32
  | 118 => 0xBD6075E3#32
  | 119 => 0xBFA16EA3#32
  | 120 => 0x3F6E92FD#32
  | 121 => 0x3FD2B9CC#32
  | 122 => 0xBF1BAA1E#32
  | 123 => 0xBEF4CCAA#32
  | 124 => 0x3F9A8092#32
  | 125 => 0xBF80E3D1#32
  | 126 => 0xBEC8B004#32
  | 127 => 0xBEE05CE0#32
  | _ => 0#32

noncomputable abbrev lit0t0_191 (i : Nat) : BitVec 32 := match i % 128 with
  | 0 => 0x3EE7BFD3#32
  | 1 => 0x3F3F1FFC#32
  | 2 => 0x3EDA722B#32
  | 3 => 0xBF3AC24E#32
  | 4 => 0x3FFC79BA#32
  | 5 => 0x405F7559#32
  | 6 => 0x40085698#32
  | 7 => 0x3EDF2716#32
  | 8 => 0xBF357685#32
  | 9 => 0x4039881D#32
  | 10 => 0x3F0B8BB0#32
  | 11 => 0x3EF4985A#32
  | 12 => 0xBFA6635F#32
  | 13 => 0x3F28FB80#32
  | 14 => 0x3FCE35ED#32
  | 15 => 0x3F102D15#32
  | 16 => 0xBF9BB6D9#32
  | 17 => 0x3F357A6F#32
  | 18 => 0x3FDADD5C#32
  | 19 => 0xBE0DB841#32
  | 20 => 0x3FD15DAC#32
  | 21 => 0xBF123950#32
  | 22 => 0x3D9DBF4F#32
  | 23 => 0x3E3C63B5#32
  | 24 => 0x3FE3B131#32
  | 25 => 0x3FA27F00#32
  | 26 => 0xBE980514#32
  | 27 => 0x3DEB869B#32
  | 28 => 0xBFBCD113#32
  | 29 => 0x3FF357BC#32
  | 30 => 0x3FE8F2B2#32
  | 31 => 0x3E79EABD#32
  | 32 => 0xBFA95AD5#32
  | 33 => 0xBF38B7EB#32
  | 34 => 0x3E20F991#32
  | 35 => 0xBF807B10#32
  | 36 => 0x4073F349#32
  | 37 => 0xBE85A6CF#32
  | 38 => 0x3F8757A5#32
  | 39 => 0x4014D105#32
  | 40 => 0x3EEE4700#32
  | 41 => 0x3F4D5BBB#32
  | 42 => 0x3E96273B#32
  | 43 => 0xBECF75CE#32
  | 44 => 0xBF13F469#32
  | 45 => 0xBF157DB4#32
  | 46 => 0xBEC15EF4#32
  | 47 => 0xBCC328E1#32
  | 48 => 0x403CFFB9#32
  | 49 => 0xBF170418#32
  | 50 => 0xBFA55315#32
  | 51 => 0xBD8241F7#32
  | 52 => 0x400F9CD1#32
  | 53 => 0x40165F0C#32
  | 54 => 0xBE851CCD#32
  | 55 => 0x404DF7C0#32
  | 56 => 0x403236F8#32
  | 57 => 0x3FA9DFF8#32
  | 58 => 0xBF2F7004#32
  | 59 => 0x3FC515FE#32
  | 60 => 0xBF482919#32
  | 61 => 0x3F13C5CE#32
  | 62 => 0x3F12C874#32
  | 63 => 0x3ED19C9F#32
  | 64 => 0xBF299683#32
  | 65 => 0x409A6D88#32
  | 66 => 0xBFBF4A46#32
  | 67 => 0xBE3BD618#32
  | 68 => 0xBE4FFEB7#32
  | 69 => 0x402B3D9D#32
  | 70 => 0xBE284750#32
  | 71 => 0xBF571EBA#32
  | 72 => 0xBFC22660#32
  | 73 => 0x3EB85CD8#32
  | 74 => 0x3F02AD1C#32
  | 75 => 0x3ECBE9C0#32
  | 76 => 0xBF081293#32
  | 77 => 0xBEC872F3#32
  | 78 => 0x3FD0AD66#32
  | 79 => 0x400E486A#32
  | 80 => 0x3DC73D8A#32
  | 81 => 0xBEA2C6E8#32
  | 82 => 0x3FD7C2E5#32
  | 83 => 0x3FB1C737#32
  | 84 => 0xBF807734#32
  | 85 => 0x40239399#32
  | 86 => 0x3F6C9C48#32
  | 87 => 0x3FA146E8#32
  | 88 => 0x3F65B7B6#32
  | 89 => 0xBFD3AF37#32
  | 90 => 0xBF23535B#32
  | 91 => 0x3E0FB33C#32
  | 92 => 0xBF47A5A5#32
  | 93 => 0x3F3A8E06#32
  | 94 => 0x3FF74C46#32
  | 95 => 0x3FCC0A9B#32
  | 96 => 0xBD6D76AB#32
  | 97 => 0xBF5442DA#32
  | 98 => 0xBF2523CC#32
  | 99 => 0x3FBF4F4F#32
  | 100 => 0x3FF36B80#32
  | 101 => 0xBDFA2309#32
  | 102 => 0x3ECCC280#32
  | 103 => 0xBD7A6D9F#32
  | 104 => 0xBF1B72D9#32
  | 105 => 0x3FE09427#32
  | 106 => 0x3F0187A0#32
  | 107 => 0xBE77A503#32
  | 108 => 0xBF21104F#32
  | 109 => 0xBF3B63BE#32
  | 110 => 0x3F0AC230#32
  | 111 => 0xBF1A688C#32
  | 112 => 0xBF1E8972#32
  | 113 => 0x3F080B82#32
  | 114 => 0xBF13A30F#32
  | 115 => 0x3D20CA12#32
  | 116 => 0x401A3040#32
  | 117 => 0x3FCC8131#32
  | 118 => 0xBEEA0F9A#32
  | 119 => 0xBE90C686#32
  | 120 => 0xBE87C14A#32
  | 121 => 0x3BD19A3F#32
  | 122 => 0x3D85244C#32
  | 123 => 0xBF674DEC#32
  | 124 => 0x3FA8953F#32
  | 125 => 0x3DC05444#32
  | 126 => 0xBF8DE627#32
  | 127 => 0x3E897919#32
  | _ => 0#32

noncomputable abbrev lit0t0_192 (i : Nat) : BitVec 32 := match i % 128 with
  | 0 => 0xBEF7064A#32
  | 1 => 0x3EE0C250#32
  | 2 => 0x40665813#32
  | 3 => 0x3FCFBBAE#32
  | 4 => 0x3FC7F3ED#32
  | 5 => 0x401BF7EF#32
  | 6 => 0xBFAC1626#32
  | 7 => 0x3F6CF748#32
  | 8 => 0x3F6AE564#32
  | 9 => 0x3FE2D55A#32
  | 10 => 0x3E915552#32
  | 11 => 0x3EC5558F#32
  | 12 => 0x3E3E6835#32
  | 13 => 0x3E487B73#32
  | 14 => 0xBF3CF1FD#32
  | 15 => 0xBEBC8365#32
  | 16 => 0x3FDFFBC0#32
  | 17 => 0xBF91DB73#32
  | 18 => 0x4006DB1B#32
  | 19 => 0x3E65757B#32
  | 20 => 0x3D2E67AF#32
  | 21 => 0xBEB37A6B#32
  | 22 => 0x40248918#32
  | 23 => 0x3DFA6C18#32
  | 24 => 0x3F896759#32
  | 25 => 0x3EB2B07E#32
  | 26 => 0x3EBE4A44#32
  | 27 => 0xBE17B623#32
  | 28 => 0xBEE3982E#32
  | 29 => 0xBF2B6223#32
  | 30 => 0xBF8089D2#32
  | 31 => 0x3DE37BCD#32
  | 32 => 0xBEE5038A#32
  | 33 => 0xBECBB8BB#32
  | 34 => 0x401EA5EB#32
  | 35 => 0xBE64417C#32
  | 36 => 0x3EDC2E46#32
  | 37 => 0xBF042622#32
  | 38 => 0x3FCEEDC1#32
  | 39 => 0xBEF6A67E#32
  | 40 => 0x3E9824A3#32
  | 41 => 0xBF47E012#32
  | 42 => 0x405BA7BA#32
  | 43 => 0x3FDB5DD6#32
  | 44 => 0x3FF6D820#32
  | 45 => 0x3F298FE8#32
  | 46 => 0x3F9FE5B2#32
  | 47 => 0x3DBD2C49#32
  | 48 => 0x3FBEE1F8#32
  | 49 => 0xBD313745#32
  | 50 => 0x3F21BD46#32
  | 51 => 0xBEE8D46E#32
  | 52 => 0xBEBD7CF1#32
  | 53 => 0xBF4713A0#32
  | 54 => 0x3DA0C256#32
  | 55 => 0x408EBB30#32
  | 56 => 0x3FA93F2E#32
  | 57 => 0xBEC7036A#32
  | 58 => 0x405952CA#32
  | 59 => 0xBF3B5327#32
  | 60 => 0x3F09DEC1#32
  | 61 => 0x3F37AA87#32
  | 62 => 0x3F75D696#32
  | 63 => 0x3BDD76A8#32
  | 64 => 0x3F85D5F0#32
  | 65 => 0x3E0489C5#32
  | 66 => 0xBF840305#32
  | 67 => 0x400ECA03#32
  | 68 => 0xBFA37299#32
  | 69 => 0xBED64E82#32
  | 70 => 0x3EF1DA48#32
  | 71 => 0xBE619C1A#32
  | 72 => 0x3F0FF8F5#32
  | 73 => 0xBF7AE6E4#32
  | 74 => 0xBEF9E900#32
  | 75 => 0x40444988#32
  | 76 => 0x3C5B1F73#32
  | 77 => 0x3EE00793#32
  | 78 => 0x3DDE6007#32
  | 79 => 0x3FB0108B#32
  | 80 => 0x3F866D92#32
  | 81 => 0x3FA45E9E#32
  | 82 => 0x3EF5FD9E#32
  | 83 => 0x3DFF1D7F#32
  | 84 => 0x3F447104#32
  | 85 => 0xBE214F7F#32
  | 86 => 0xBE317401#32
  | 87 => 0xBF22A315#32
  | 88 => 0x3F742A48#32
  | 89 => 0x3F703C16#32
  | 90 => 0x3E72ED93#32
  | 91 => 0x3D36541F#32
  | 92 => 0x3F4EDE22#32
  | 93 => 0x4006A4B5#32
  | 94 => 0xBEFF9CE8#32
  | 95 => 0x3FFF3195#32
  | 96 => 0xBF562FD6#32
  | 97 => 0x3F531685#32
  | 98 => 0xBF49B50B#32
  | 99 => 0x3E641AAF#32
  | 100 => 0xBF45E308#32
  | 101 => 0x40173297#32
  | 102 => 0xBE99C3CB#32
  | 103 => 0x3E21E883#32
  | 104 => 0x3FF37C74#32
  | 105 => 0x3E85AC7A#32
  | 106 => 0xBE70997E#32
  | 107 => 0xBF344228#32
  | 108 => 0x3EABA0BD#32
  | 109 => 0x3E2FC414#32
  | 110 => 0x3FA058A4#32
  | 111 => 0xBFD379D4#32
  | 112 => 0x3EF64A9E#32
  | 113 => 0x3EE6661C#32
  | 114 => 0x40A6C7CA#32
  | 115 => 0x3EF0AF84#32
  | 116 => 0x4023947F#32
  | 117 => 0x3F91A62A#32
  | 118 => 0xBC369B85#32
  | 119 => 0xBED3CE9C#32
  | 120 => 0xBE53FD41#32
  | 121 => 0x4019EFFE#32
  | 122 => 0x3F944433#32
  | 123 => 0xBF2649D0#32
  | 124 => 0x3F41BA67#32
  | 125 => 0x3F7A5262#32
  | 126 => 0xBE1887E2#32
  | 127 => 0x3FACF9BF#32
  | _ => 0#32

noncomputable abbrev lit0t0_193 (i : Nat) : BitVec 32 := match i % 128 with
  | 0 => 0x3F4740FF#32
  | 1 => 0x3F9F3DD9#32
  | 2 => 0x3F008E5E#32
  | 3 => 0xBF873FF0#32
  | 4 => 0xBE54FD46#32
  | 5 => 0x3F7D5F3C#32
  | 6 => 0xBF1A9A18#32
  | 7 => 0x40115964#32
  | 8 => 0x3E464F16#32
  | 9 => 0x3D36598C#32
  | 10 => 0x3EE3EC00#32
  | 11 => 0xBEDF17C3#32
  | 12 => 0x40312159#32
  | 13 => 0x3F8A5AAD#32
  | 14 => 0xBED7F758#32
  | 15 => 0xBF720BAE#32
  | 16 => 0x3EDDF40B#32
  | 17 => 0xBDFF1B0B#32
  | 18 => 0x3F4F8AB4#32
  | 19 => 0x4000FAF4#32
  | 20 => 0x3F81D3CE#32
  | 21 => 0xBFB909E3#32
  | 22 => 0x3F5A545E#32
  | 23 => 0xBE08B585#32
  | 24 => 0xBEC0292E#32
  | 25 => 0x3F5684B4#32
  | 26 => 0x3F246246#32
  | 27 => 0x3FFD5C7E#32
  | 28 => 0x3F032970#32
  | 29 => 0x40460D37#32
  | 30 => 0x3EC28768#32
  | 31 => 0x3F443E5F#32
  | 32 => 0x3FA5DFAD#32
  | 33 => 0xBF0EDDFD#32
  | 34 => 0x3FAB2C21#32
  | 35 => 0x3EA21527#32
  | 36 => 0x40093F01#32
  | 37 => 0xBCFFBF4E#32
  | 38 => 0x3E4FC853#32
  | 39 => 0xBEB2EF27#32
  | 40 => 0xBF744C88#32
  | 41 => 0x3F95DA1B#32
  | 42 => 0xBDDD3EE0#32
  | 43 => 0xBECF47E1#32
  | 44 => 0x3E33F496#32
  | 45 => 0x3D574D07#32
  | 46 => 0x3F1CD562#32
  | 47 => 0x3F3538CE#32
  | 48 => 0xBF282A82#32
  | 49 => 0x3FF6566B#32
  | 50 => 0x3F5E5971#32
  | 51 => 0x3FACC71C#32
  | 52 => 0x408DA6FB#32
  | 53 => 0x4044F03D#32
  | 54 => 0x3D6FE0D4#32
  | 55 => 0x401FC026#32
  | 56 => 0x3F74F8B8#32
  | 57 => 0x405F7DF2#32
  | 58 => 0xBF4BF9AB#32
  | 59 => 0x3FA0691B#32
  | 60 => 0x3E85F890#32
  | 61 => 0x403BEF96#32
  | 62 => 0x3F1C684A#32
  | 63 => 0x3E7E4DDC#32
  | 64 => 0x402A1C77#32
  | 65 => 0x40277F5C#32
  | 66 => 0x3FCEE989#32
  | 67 => 0xBF915250#32
  | 68 => 0x3EC6309F#32
  | 69 => 0x3FA97E91#32
  | 70 => 0x3F639FB6#32
  | 71 => 0xBE8D1BF1#32
  | 72 => 0x3F33FB93#32
  | 73 => 0x3F241229#32
  | 74 => 0x3EC0ED29#32
  | 75 => 0x4077D140#32
  | 76 => 0xBEC4D742#32
  | 77 => 0xBEAF22F2#32
  | 78 => 0xBF49D31F#32
  | 79 => 0x3EF8AF30#32
  | 80 => 0x4000520B#32
  | 81 => 0x3F7AFF66#32
  | 82 => 0x3FDE07D6#32
  | 83 => 0xBE5B4063#32
  | 84 => 0xBEE3C6C0#32
  | 85 => 0x3E7768CA#32
  | 86 => 0x3F674D9C#32
  | 87 => 0x3EF0B9BE#32
  | 88 => 0xBE19E0D0#32
  | 89 => 0xBE9280E1#32
  | 90 => 0x3D35D6EE#32
  | 91 => 0x3F861DB3#32
  | 92 => 0x3EACD28E#32
  | 93 => 0xBCBCFA6C#32
  | 94 => 0xBF1EF025#32
  | 95 => 0x3ED168A7#32
  | 96 => 0xBEB46406#32
  | 97 => 0x3F88BAEA#32
  | 98 => 0xBEFF3710#32
  | 99 => 0x3F628C4C#32
  | 100 => 0xBFA3B038#32
  | 101 => 0xBFDBAA3E#32
  | 102 => 0x3CAB96DA#32
  | 103 => 0x4083A27A#32
  | 104 => 0x3F09E6FD#32
  | 105 => 0x40048B4C#32
  | 106 => 0xBF58AFC6#32
  | 107 => 0x3FD4A41F#32
  | 108 => 0xBDB34748#32
  | 109 => 0x3F9B5BAD#32
  | 110 => 0xBE3D4463#32
  | 111 => 0xBFBC9881#32
  | 112 => 0x3F80E01D#32
  | 113 => 0x3F773623#32
  | 114 => 0xBF91672B#32
  | 115 => 0x3F337D8E#32
  | 116 => 0x3EF29788#32
  | 117 => 0xBF050E93#32
  | 118 => 0x3FC56790#32
  | 119 => 0x3F843575#32
  | 120 => 0x3FD22604#32
  | 121 => 0x3EEA3384#32
  | 122 => 0xBF431618#32
  | 123 => 0xBEEE9ED6#32
  | 124 => 0x3F79C33E#32
  | 125 => 0x401652F5#32
  | 126 => 0x3F92E89C#32
  | 127 => 0x407D1AF6#32
  | _ => 0#32

noncomputable abbrev lit0t0_194 (i : Nat) : BitVec 32 := match i % 128 with
  | 0 => 0x3FBF780F#32
  | 1 => 0x3F2DC3E2#32
  | 2 => 0xBF254B20#32
  | 3 => 0x3F4F71F5#32
  | 4 => 0x3FBD663A#32
  | 5 => 0x402678E9#32
  | 6 => 0x400956EC#32
  | 7 => 0x3E3E08CD#32
  | 8 => 0x3F2E97E9#32
  | 9 => 0x401AA459#32
  | 10 => 0xBD1A3F90#32
  | 11 => 0x3F0C1B53#32
  | 12 => 0x3F7CB1A2#32
  | 13 => 0x3E1DF614#32
  | 14 => 0x40918135#32
  | 15 => 0x3EA0BD55#32
  | 16 => 0x3DC7D8DE#32
  | 17 => 0x3F510BDE#32
  | 18 => 0xBE4DABA1#32
  | 19 => 0x3E1A3D36#32
  | 20 => 0xBF8E467A#32
  | 21 => 0x3EB8C181#32
  | 22 => 0xBF4012EE#32
  | 23 => 0x3F7E6F0F#32
  | 24 => 0x4009DAF0#32
  | 25 => 0xBE867B00#32
  | 26 => 0x3F56F69A#32
  | 27 => 0xBED02C0D#32
  | 28 => 0xBD9F0A0E#32
  | 29 => 0xBF15A0BC#32
  | 30 => 0xBF6BF225#32
  | 31 => 0x40756F2A#32
  | 32 => 0xBE2EE2EB#32
  | 33 => 0x3E1D59CF#32
  | 34 => 0x3F00B9B1#32
  | 35 => 0x3E994EF6#32
  | 36 => 0x3C94CB18#32
  | 37 => 0x3FA131D3#32
  | 38 => 0x3F623AB3#32
  | 39 => 0x400514E7#32
  | 40 => 0xBEFB15EE#32
  | 41 => 0xBE8636D1#32
  | 42 => 0x3FE29A2E#32
  | 43 => 0xBF4F7681#32
  | 44 => 0xBF897C16#32
  | 45 => 0x3FB9B971#32
  | 46 => 0x3F2239E2#32
  | 47 => 0xBF5E8EDF#32
  | 48 => 0xBEAD6CDE#32
  | 49 => 0xBF8856EC#32
  | 50 => 0xBF201DED#32
  | 51 => 0x3F4B0C75#32
  | 52 => 0x3F3CDFEC#32
  | 53 => 0x3F846F88#32
  | 54 => 0xBEFE17A2#32
  | 55 => 0xBF06CF4C#32
  | 56 => 0xBF5B5DE9#32
  | 57 => 0x3E84C44D#32
  | 58 => 0x40446050#32
  | 59 => 0xBEBF3776#32
  | 60 => 0x3F8485CA#32
  | 61 => 0x3CF750A7#32
  | 62 => 0xBDF98F70#32
  | 63 => 0x4019E98C#32
  | 64 => 0x3F8853E4#32
  | 65 => 0xBEC5EB3C#32
  | 66 => 0x3EE24FD2#32
  | 67 => 0x3FF62C62#32
  | 68 => 0x3FA0BEF1#32
  | 69 => 0x3F8CF3F4#32
  | 70 => 0x403756D3#32
  | 71 => 0x3FAF694B#32
  | 72 => 0x3F909503#32
  | 73 => 0xBF0CE809#32
  | 74 => 0x3E936954#32
  | 75 => 0x3F88BEDC#32
  | 76 => 0xBEF3EE80#32
  | 77 => 0x403DCEA9#32
  | 78 => 0xBDA1621A#32
  | 79 => 0x3A235105#32
  | 80 => 0xBF3B1F71#32
  | 81 => 0x3F86372C#32
  | 82 => 0x407972E5#32
  | 83 => 0x3F22E6D2#32
  | 84 => 0x3F56D85A#32
  | 85 => 0xBE3EB2E3#32
  | 86 => 0xBF07FA5E#32
  | 87 => 0x3FBA10AE#32
  | 88 => 0x3FA1E1DC#32
  | 89 => 0x40345177#32
  | 90 => 0x3E37ABD6#32
  | 91 => 0xBFD3CBCB#32
  | 92 => 0xBF6B957C#32
  | 93 => 0x4008AA8F#32
  | 94 => 0x3F2B0424#32
  | 95 => 0xBDBFC22B#32
  | 96 => 0x400A0B3A#32
  | 97 => 0xBB09BEEA#32
  | 98 => 0x3E658FEA#32
  | 99 => 0x40B68877#32
  | 100 => 0x3F1C2E25#32
  | 101 => 0x3F899C58#32
  | 102 => 0xBD5A3E45#32
  | 103 => 0xBEFA7B98#32
  | 104 => 0x3F119D81#32
  | 105 => 0x40306D06#32
  | 106 => 0x3FCA096C#32
  | 107 => 0x3EA333DC#32
  | 108 => 0x3F787163#32
  | 109 => 0x3E717BB1#32
  | 110 => 0x40564904#32
  | 111 => 0xBEBAE614#32
  | 112 => 0xBDCDF83D#32
  | 113 => 0xBF84A5BC#32
  | 114 => 0x3EBFC50F#32
  | 115 => 0x3E7330B6#32
  | 116 => 0x3EBEBA2D#32
  | 117 => 0x3E22DEA3#32
  | 118 => 0x3F55E205#32
  | 119 => 0x3EDFF5AA#32
  | 120 => 0x3E6D02A7#32
  | 121 => 0xBE1AE5EB#32
  | 122 => 0xBD96F037#32
  | 123 => 0xBFCF09E2#32
  | 124 => 0xBF687AEA#32
  | 125 => 0x3FE00A62#32
  | 126 => 0xBFAA1D21#32
  | 127 => 0x3FA81CCE#32
  | _ => 0#32

noncomputable abbrev lit0t0_195 (i : Nat) : BitVec 32 := match i % 128 with
  | 0 => 0x3FA24A42#32
  | 1 => 0x4089AC20#32
  | 2 => 0x4081F4D3#32
  | 3 => 0x3F382817#32
  | 4 => 0xBF08D54E#32
  | 5 => 0x3FDAC98A#32
  | 6 => 0x3F360D7C#32
  | 7 => 0x3F053F6C#32
  | 8 => 0x3FEDD2A3#32
  | 9 => 0xBEE576E4#32
  | 10 => 0xBF74E15A#32
  | 11 => 0x3F88601C#32
  | 12 => 0xBE1A9FC5#32
  | 13 => 0xBEDD1C9E#32
  | 14 => 0x3F3912DC#32
  | 15 => 0x4057EB19#32
  | 16 => 0x3F616D9A#32
  | 17 => 0x3F4087DA#32
  | 18 => 0x3F408ED6#32
  | 19 => 0x3FA5D354#32
  | 20 => 0x3E31D404#32
  | 21 => 0xBDB91B91#32
  | 22 => 0xBF987C03#32
  | 23 => 0x3EA7317F#32
  | 24 => 0x3FD2A8C5#32
  | 25 => 0x3E525C44#32
  | 26 => 0xBF3DB719#32
  | 27 => 0xBEB86739#32
  | 28 => 0xBFB5C4F8#32
  | 29 => 0xBF680B02#32
  | 30 => 0xBEEC6796#32
  | 31 => 0x3F212775#32
  | 32 => 0x3DEA4CE4#32
  | 33 => 0x3E920D89#32
  | 34 => 0x3FFEC34F#32
  | 35 => 0x3EFA2996#32
  | 36 => 0x3C44A320#32
  | 37 => 0xBD490B9A#32
  | 38 => 0xBF2DDD0A#32
  | 39 => 0x3CB04E16#32
  | 40 => 0x3F4EBAAB#32
  | 41 => 0xBF723DF5#32
  | 42 => 0xBF37B78C#32
  | 43 => 0x3FE89130#32
  | 44 => 0xBFA93EFE#32
  | 45 => 0x3F22F682#32
  | 46 => 0x3FA2BA2A#32
  | 47 => 0x3E6E1F87#32
  | 48 => 0x3FC0A49C#32
  | 49 => 0x3DC5F069#32
  | 50 => 0x3B8F5523#32
  | 51 => 0xBF74C93F#32
  | 52 => 0xBB12AFF1#32
  | 53 => 0xBF1ADF91#32
  | 54 => 0xBED46882#32
  | 55 => 0x3FB09691#32
  | 56 => 0xBE587FD0#32
  | 57 => 0x401683AE#32
  | 58 => 0x3D381254#32
  | 59 => 0x3F471CA6#32
  | 60 => 0x3EFACE42#32
  | 61 => 0x3F1D284A#32
  | 62 => 0x3F1C278F#32
  | 63 => 0x3F51A29F#32
  | 64 => 0x3F1C5F72#32
  | 65 => 0x3DDC30FE#32
  | 66 => 0xBF8EDB0C#32
  | 67 => 0x40A75928#32
  | 68 => 0x3ED79E11#32
  | 69 => 0x3D035CA8#32
  | 70 => 0x4008A420#32
  | 71 => 0x3E7C1673#32
  | 72 => 0x3E90AEBD#32
  | 73 => 0x3F5D5229#32
  | 74 => 0xBF405600#32
  | 75 => 0x3D9ABE64#32
  | 76 => 0xBF8002B8#32
  | 77 => 0x3E8601D9#32
  | 78 => 0x3F4C522E#32
  | 79 => 0x3F12FFD1#32
  | 80 => 0x3F23BA4B#32
  | 81 => 0x3F06EDC4#32
  | 82 => 0xBF392E2B#32
  | 83 => 0x3EEB4F7F#32
  | 84 => 0x3F99D49A#32
  | 85 => 0xBE6C3D62#32
  | 86 => 0x4036B492#32
  | 87 => 0xBF9A64BD#32
  | 88 => 0x3E2352B2#32
  | 89 => 0x3F00CDFD#32
  | 90 => 0x3F00ACA9#32
  | 91 => 0x3F2ECDC0#32
  | 92 => 0x4011F1AB#32
  | 93 => 0x3ECCECC9#32
  | 94 => 0xBECBB96C#32
  | 95 => 0x3ECCF869#32
  | 96 => 0x3D228835#32
  | 97 => 0x3EA36299#32
  | 98 => 0x3EED3E43#32
  | 99 => 0x40519C93#32
  | 100 => 0x3FDFEB92#32
  | 101 => 0x3F1FA2DB#32
  | 102 => 0xBF917262#32
  | 103 => 0x3FC87E01#32
  | 104 => 0x3E342EEE#32
  | 105 => 0x3FC0A568#32
  | 106 => 0xBF8E82BF#32
  | 107 => 0xBEC680BB#32
  | 108 => 0xBF2C5990#32
  | 109 => 0xBF7FF8CE#32
  | 110 => 0x402DAC3D#32
  | 111 => 0x3E671E94#32
  | 112 => 0xBF5F3FA4#32
  | 113 => 0xBF7D776A#32
  | 114 => 0x3F2F2D7C#32
  | 115 => 0x400BB6B8#32
  | 116 => 0x4019FA6A#32
  | 117 => 0xBFCA9B49#32
  | 118 => 0xBF42A210#32
  | 119 => 0x405D4C3D#32
  | 120 => 0x3F445CF6#32
  | 121 => 0xBEE3B936#32
  | 122 => 0x3EF25E19#32
  | 123 => 0xBF87BA56#32
  | 124 => 0x3F0F1C0F#32
  | 125 => 0x403505E2#32
  | 126 => 0x3EFE46E9#32
  | 127 => 0x403B75F5#32
  | _ => 0#32

noncomputable abbrev lit0t0_196 (i : Nat) : BitVec 32 := match i % 128 with
  | 0 => 0x3DDD502E#32
  | 1 => 0x3FD36A89#32
  | 2 => 0x3CD898DE#32
  | 3 => 0x3FD1ABC2#32
  | 4 => 0xBF3D9105#32
  | 5 => 0x40042422#32
  | 6 => 0xBF03027A#32
  | 7 => 0x3FEE3E35#32
  | 8 => 0x3F26846F#32
  | 9 => 0x40AE230A#32
  | 10 => 0x3F33A9A9#32
  | 11 => 0x3F1709C0#32
  | 12 => 0x3FB8BAE2#32
  | 13 => 0x3FCD3A83#32
  | 14 => 0x3E20822D#32
  | 15 => 0xBF8C74BC#32
  | 16 => 0x3FCA6FB2#32
  | 17 => 0x3F823AB9#32
  | 18 => 0xBF1ADB0A#32
  | 19 => 0x40606396#32
  | 20 => 0xBE186884#32
  | 21 => 0x3F0D05F5#32
  | 22 => 0x402C763D#32
  | 23 => 0x3F800D1F#32
  | 24 => 0x3F15FB14#32
  | 25 => 0x3FF05C47#32
  | 26 => 0xBEBE4BBE#32
  | 27 => 0x3F2F2061#32
  | 28 => 0xBF7532A5#32
  | 29 => 0x3DA0EB3D#32
  | 30 => 0x3F09204B#32
  | 31 => 0xBEDA45A3#32
  | 32 => 0xBF28F152#32
  | 33 => 0x3F2E5260#32
  | 34 => 0x3F34D2FB#32
  | 35 => 0x3F182027#32
  | 36 => 0x3EABF5C0#32
  | 37 => 0x3E846DD7#32
  | 38 => 0x3F2EB44D#32
  | 39 => 0x3EED62D9#32
  | 40 => 0xBF7997D8#32
  | 41 => 0x3CF65B1E#32
  | 42 => 0x40626DB1#32
  | 43 => 0x3FB3A562#32
  | 44 => 0x3EA627A2#32
  | 45 => 0x3F9D5F43#32
  | 46 => 0x3F934875#32
  | 47 => 0x3EA0DFD6#32
  | 48 => 0xBF8D4DF2#32
  | 49 => 0x3FA04908#32
  | 50 => 0x3FB01E4D#32
  | 51 => 0xBE17B17A#32
  | 52 => 0xBF93A8CE#32
  | 53 => 0xBEA8C083#32
  | 54 => 0x3F67D2CA#32
  | 55 => 0xBF75C838#32
  | 56 => 0x3F56469F#32
  | 57 => 0xBF33F8D2#32
  | 58 => 0x3F0EC19D#32
  | 59 => 0x3E0B59C1#32
  | 60 => 0x3D59EB4D#32
  | 61 => 0x3F2CED04#32
  | 62 => 0x4040D2D3#32
  | 63 => 0x3F9D1DE2#32
  | 64 => 0xBCE32C9E#32
  | 65 => 0x3DE61A4C#32
  | 66 => 0xBDF7E12E#32
  | 67 => 0x3EB59CAF#32
  | 68 => 0xBEF62756#32
  | 69 => 0x3F6810AE#32
  | 70 => 0x3F1ABC4E#32
  | 71 => 0x3EE28E31#32
  | 72 => 0x3FEC182E#32
  | 73 => 0x3F430310#32
  | 74 => 0x400FB796#32
  | 75 => 0xBD2EAFB1#32
  | 76 => 0xBF06B422#32
  | 77 => 0x3F6E0899#32
  | 78 => 0x3E766575#32
  | 79 => 0x3F41EA6F#32
  | 80 => 0x402B66E5#32
  | 81 => 0xBF11CCFF#32
  | 82 => 0x3FA697A1#32
  | 83 => 0xBED5E8D5#32
  | 84 => 0xBE5456F3#32
  | 85 => 0x3FC69406#32
  | 86 => 0x3F905033#32
  | 87 => 0x3E233F44#32
  | 88 => 0x401D1298#32
  | 89 => 0xBE57273A#32
  | 90 => 0xBF2B3B00#32
  | 91 => 0x3F9AA3C3#32
  | 92 => 0x3D0377E4#32
  | 93 => 0x3FE83084#32
  | 94 => 0xBF917432#32
  | 95 => 0xBF45CAA7#32
  | 96 => 0xBF480CF8#32
  | 97 => 0x3F6566BB#32
  | 98 => 0xBF97C57F#32
  | 99 => 0x3F4EB356#32
  | 100 => 0xBEEFF8F2#32
  | 101 => 0xBDA04E08#32
  | 102 => 0xBF246F1A#32
  | 103 => 0x406592E9#32
  | 104 => 0x40366B97#32
  | 105 => 0xBF231650#32
  | 106 => 0x3E5DB35C#32
  | 107 => 0xBF060C35#32
  | 108 => 0xBF37408A#32
  | 109 => 0x3FC7C483#32
  | 110 => 0xBF03E710#32
  | 111 => 0x407F626C#32
  | 112 => 0x3F6781D8#32
  | 113 => 0x3DE58D7A#32
  | 114 => 0x3E5B02C6#32
  | 115 => 0x4041E325#32
  | 116 => 0x3FB6CFF5#32
  | 117 => 0x40003494#32
  | 118 => 0xBE93442D#32
  | 119 => 0x3F863CFB#32
  | 120 => 0x40742A1A#32
  | 121 => 0x3F430333#32
  | 122 => 0xBF6182D2#32
  | 123 => 0xBE792D68#32
  | 124 => 0x3F37DDFE#32
  | 125 => 0x3FD0BC5E#32
  | 126 => 0x3F910F80#32
  | 127 => 0x40194DF7#32
  | _ => 0#32

noncomputable abbrev lit0t0_197 (i : Nat) : BitVec 32 := match i % 128 with
  | 0 => 0xBF014E59#32
  | 1 => 0x3F8A3A8A#32
  | 2 => 0xBC16F2F1#32
  | 3 => 0x40030E1E#32
  | 4 => 0x3F811C40#32
  | 5 => 0x3E438C7B#32
  | 6 => 0x3FC7B262#32
  | 7 => 0x40108B8F#32
  | 8 => 0xBD39C231#32
  | 9 => 0x3C4AE03A#32
  | 10 => 0xBE944394#32
  | 11 => 0x3E871102#32
  | 12 => 0x3EFF0B1C#32
  | 13 => 0x3FF5B335#32
  | 14 => 0x40049060#32
  | 15 => 0x3E5059FC#32
  | 16 => 0x3F9A87B9#32
  | 17 => 0xBEBEED5C#32
  | 18 => 0x3F814067#32
  | 19 => 0x40244EB6#32
  | 20 => 0x40255BBE#32
  | 21 => 0x4049678E#32
  | 22 => 0x3FB8B4C4#32
  | 23 => 0x3FAEDC29#32
  | 24 => 0x3F026F90#32
  | 25 => 0x40046E3B#32
  | 26 => 0x4016D3DF#32
  | 27 => 0x3DE9F321#32
  | 28 => 0xBF7F3387#32
  | 29 => 0x3F8F4D04#32
  | 30 => 0x3D994F43#32
  | 31 => 0x3D18C644#32
  | 32 => 0x400300D8#32
  | 33 => 0xBF1661A0#32
  | 34 => 0xBECCA385#32
  | 35 => 0x3E3D3155#32
  | 36 => 0x3F808657#32
  | 37 => 0x3F8ED6DA#32
  | 38 => 0x404840D5#32
  | 39 => 0xBF323837#32
  | 40 => 0x3F7409BC#32
  | 41 => 0x3FBA46E4#32
  | 42 => 0x3EBC52FB#32
  | 43 => 0x3E1F3FD5#32
  | 44 => 0x3FC3C1C4#32
  | 45 => 0x3F36CFE7#32
  | 46 => 0xBC3C8055#32
  | 47 => 0xBE3829F4#32
  | 48 => 0x4058945D#32
  | 49 => 0x3F36819D#32
  | 50 => 0x3F200351#32
  | 51 => 0xBF374736#32
  | 52 => 0x3F74B01D#32
  | 53 => 0x4001CEB0#32
  | 54 => 0x3F1098C6#32
  | 55 => 0xBF622392#32
  | 56 => 0x401F519D#32
  | 57 => 0x3F9E8028#32
  | 58 => 0xBE5CE52E#32
  | 59 => 0xBF124D74#32
  | 60 => 0xBD4D9A3B#32
  | 61 => 0x3E299FB3#32
  | 62 => 0xBF81EBC4#32
  | 63 => 0xBFCC215F#32
  | 64 => 0x3FB29840#32
  | 65 => 0x3FA3DAA7#32
  | 66 => 0xBDE490EA#32
  | 67 => 0x3DE36E76#32
  | 68 => 0x4039BFD7#32
  | 69 => 0x4003A9A0#32
  | 70 => 0x3C86F074#32
  | 71 => 0x3F879DED#32
  | 72 => 0xBDBD8001#32
  | 73 => 0xBCC96A64#32
  | 74 => 0x40B31EB9#32
  | 75 => 0xBF1F8728#32
  | 76 => 0x3C5AFAF7#32
  | 77 => 0x3F3B92A6#32
  | 78 => 0xBF133F3F#32
  | 79 => 0x40190F0B#32
  | 80 => 0x3F21EBB1#32
  | 81 => 0xBEA6F370#32
  | 82 => 0xBEE1691F#32
  | 83 => 0xBF046B93#32
  | 84 => 0x406C1F5F#32
  | 85 => 0xBD6F0F14#32
  | 86 => 0xBEADB84D#32
  | 87 => 0xBDC7186C#32
  | 88 => 0x3F5AFA90#32
  | 89 => 0x3F77AFB4#32
  | 90 => 0xBFA9B9AE#32
  | 91 => 0x3FD8BB31#32
  | 92 => 0x402C17A9#32
  | 93 => 0x3FFF1415#32
  | 94 => 0x3F4F2681#32
  | 95 => 0x3FD6BCC0#32
  | 96 => 0x3EAF908C#32
  | 97 => 0x3E0DDD4E#32
  | 98 => 0x3F14AE0A#32
  | 99 => 0x3F406C95#32
  | 100 => 0x3F97E077#32
  | 101 => 0x3F6C453F#32
  | 102 => 0x3F0C4C9C#32
  | 103 => 0x3E005C12#32
  | 104 => 0xBEEA8E3A#32
  | 105 => 0x3F9A642C#32
  | 106 => 0x3FE254FD#32
  | 107 => 0x3F57BAF3#32
  | 108 => 0xBF7CACBC#32
  | 109 => 0xBF2A6DBD#32
  | 110 => 0xBEDFBEEA#32
  | 111 => 0x3FB1F541#32
  | 112 => 0xBE3175BD#32
  | 113 => 0x3F91022C#32
  | 114 => 0x3EDDCC7E#32
  | 115 => 0x4017E880#32
  | 116 => 0x3F26CFEF#32
  | 117 => 0xBB141723#32
  | 118 => 0x402863D4#32
  | 119 => 0xBF9DFDB4#32
  | 120 => 0x3F63463C#32
  | 121 => 0x402AE08D#32
  | 122 => 0x3FC082A4#32
  | 123 => 0x3E0451DC#32
  | 124 => 0xBE5AAD86#32
  | 125 => 0x3EF571F4#32
  | 126 => 0x406D1425#32
  | 127 => 0x406F562B#32
  | _ => 0#32

noncomputable abbrev lit0t0_198 (i : Nat) : BitVec 32 := match i % 128 with
  | 0 => 0xBED53BE9#32
  | 1 => 0xBF82BC6F#32
  | 2 => 0xBE7C0C4A#32
  | 3 => 0x405DA015#32
  | 4 => 0x3F13956F#32
  | 5 => 0x3F67C7F0#32
  | 6 => 0x402196F8#32
  | 7 => 0x3E500B45#32
  | 8 => 0x3F0382A6#32
  | 9 => 0xBE4FAA4E#32
  | 10 => 0x400A5B8B#32
  | 11 => 0x3EBD8506#32
  | 12 => 0xBDB3942E#32
  | 13 => 0xBF81A337#32
  | 14 => 0xBF8D064E#32
  | 15 => 0x405BD6FB#32
  | 16 => 0xBCD69B0E#32
  | 17 => 0x3FA28972#32
  | 18 => 0x3F2FD4B6#32
  | 19 => 0x3F319326#32
  | 20 => 0x3EE62EC4#32
  | 21 => 0xBF157E20#32
  | 22 => 0x3F2B9D13#32
  | 23 => 0x3E3A55EB#32
  | 24 => 0x3EA5A0FC#32
  | 25 => 0x402298F2#32
  | 26 => 0x40CA7437#32
  | 27 => 0xBC40161D#32
  | 28 => 0x3FAB6568#32
  | 29 => 0xBF21D5DD#32
  | 30 => 0x3E9DC753#32
  | 31 => 0x3F50B173#32
  | 32 => 0xBE90647C#32
  | 33 => 0x3FAEACD6#32
  | 34 => 0xBF0C462E#32
  | 35 => 0x40218BE6#32
  | 36 => 0x3F8C1408#32
  | 37 => 0x3F83030F#32
  | 38 => 0x3F9B0E5A#32
  | 39 => 0xBF0E3903#32
  | 40 => 0x3F1B0F32#32
  | 41 => 0xBE932152#32
  | 42 => 0xBE8A53A2#32
  | 43 => 0xBEE688E5#32
  | 44 => 0xBFB369E3#32
  | 45 => 0x3F0CEF06#32
  | 46 => 0xBF8F11FB#32
  | 47 => 0xBF840C17#32
  | 48 => 0x3F9DBE20#32
  | 49 => 0x4027F6C9#32
  | 50 => 0x3F8EE497#32
  | 51 => 0xBF427282#32
  | 52 => 0x3E43CCCA#32
  | 53 => 0xBDFCF1D8#32
  | 54 => 0x3FBDE4F8#32
  | 55 => 0xBF3D6BD0#32
  | 56 => 0x4060D947#32
  | 57 => 0x402C1E9D#32
  | 58 => 0x3F097C9F#32
  | 59 => 0x3FFCDF20#32
  | 60 => 0xBF27D3F6#32
  | 61 => 0x3CDB656F#32
  | 62 => 0x3E43FB2E#32
  | 63 => 0x40486A31#32
  | 64 => 0x40123524#32
  | 65 => 0xBD776CE9#32
  | 66 => 0x3F2083B0#32
  | 67 => 0xBF174EE6#32
  | 68 => 0xBF86D27C#32
  | 69 => 0xBF79E924#32
  | 70 => 0x3E4A8DE1#32
  | 71 => 0xBEEECEE5#32
  | 72 => 0x402D33C5#32
  | 73 => 0x3FD38D14#32
  | 74 => 0x3FCC6A28#32
  | 75 => 0xBF723DAE#32
  | 76 => 0x40613DA5#32
  | 77 => 0x3FBF7363#32
  | 78 => 0xBE8A61B1#32
  | 79 => 0x3D17167C#32
  | 80 => 0xBEB558EF#32
  | 81 => 0x3F8AE46C#32
  | 82 => 0x3F17EDB4#32
  | 83 => 0xBF3DD507#32
  | 84 => 0x3F237FA5#32
  | 85 => 0x40082F7F#32
  | 86 => 0x402A7C76#32
  | 87 => 0x402F68A9#32
  | 88 => 0x3E88913A#32
  | 89 => 0xBD915E5F#32
  | 90 => 0x3ECBCB28#32
  | 91 => 0xBF21B365#32
  | 92 => 0xBED365D9#32
  | 93 => 0xBF5D3C72#32
  | 94 => 0x3FA8912C#32
  | 95 => 0xBEA341DE#32
  | 96 => 0x3EEEF42A#32
  | 97 => 0x4018C8DC#32
  | 98 => 0xBF0F13FE#32
  | 99 => 0x3F440077#32
  | 100 => 0xBF055BA1#32
  | 101 => 0x3EDEAEFB#32
  | 102 => 0xBE0D7AA4#32
  | 103 => 0x3F3F785E#32
  | 104 => 0x4046C449#32
  | 105 => 0x3F67CC5D#32
  | 106 => 0x3FD5FF27#32
  | 107 => 0x3FA2F1A8#32
  | 108 => 0x40896536#32
  | 109 => 0x3F10437C#32
  | 110 => 0xBF14B6EB#32
  | 111 => 0xBF51E900#32
  | 112 => 0x3F429541#32
  | 113 => 0x3ED4C04E#32
  | 114 => 0xBE8BE2FA#32
  | 115 => 0x3D0A1AB1#32
  | 116 => 0x3CB780DE#32
  | 117 => 0x4096D1CC#32
  | 118 => 0xBEEF0B25#32
  | 119 => 0x3F5728E0#32
  | 120 => 0x3FDCCD75#32
  | 121 => 0xBFB0C983#32
  | 122 => 0x3E2F3E3B#32
  | 123 => 0xBEFE4A08#32
  | 124 => 0x3DC14E92#32
  | 125 => 0x3F078BBB#32
  | 126 => 0x3E9D4BA5#32
  | 127 => 0x3EA5E642#32
  | _ => 0#32

noncomputable abbrev lit0t0_199 (i : Nat) : BitVec 32 := match i % 128 with
  | 0 => 0x3FC6C134#32
  | 1 => 0x3E925F64#32
  | 2 => 0x3E6E2DA5#32
  | 3 => 0x3F11C30A#32
  | 4 => 0x3EB3234F#32
  | 5 => 0x4013649B#32
  | 6 => 0xBEE6B515#32
  | 7 => 0xBF8EAE74#32
  | 8 => 0xBEC74A39#32
  | 9 => 0x3F210E08#32
  | 10 => 0x3FE4B9A5#32
  | 11 => 0x3F9A34C0#32
  | 12 => 0xBF28C44F#32
  | 13 => 0x3ED9E571#32
  | 14 => 0x3F68A2EA#32
  | 15 => 0x3F5A9F02#32
  | 16 => 0x3EB5728B#32
  | 17 => 0x3F62E565#32
  | 18 => 0x3FBE2717#32
  | 19 => 0x3F88DC1F#32
  | 20 => 0x3EA16EF0#32
  | 21 => 0xBEAB4C01#32
  | 22 => 0x3F2F10DD#32
  | 23 => 0x40294922#32
  | 24 => 0xBFA3975C#32
  | 25 => 0xBE4C5132#32
  | 26 => 0xBE2FB081#32
  | 27 => 0xBE9CDB32#32
  | 28 => 0xBDA1E8CB#32
  | 29 => 0xBF60CBDE#32
  | 30 => 0x3F6BE975#32
  | 31 => 0x3DD477DD#32
  | 32 => 0xBEE2B879#32
  | 33 => 0x4082E094#32
  | 34 => 0x3F3CEB6A#32
  | 35 => 0x3EE6C2A9#32
  | 36 => 0x3FEA6746#32
  | 37 => 0xBF8B4974#32
  | 38 => 0x3CEC226F#32
  | 39 => 0x3FB4FEFB#32
  | 40 => 0xBE674C83#32
  | 41 => 0x400FD989#32
  | 42 => 0xBF0E7133#32
  | 43 => 0x3F4417F4#32
  | 44 => 0xBD8CD529#32
  | 45 => 0x3F436070#32
  | 46 => 0x3FC663EA#32
  | 47 => 0xBB23040E#32
  | 48 => 0xBF812756#32
  | 49 => 0x3FD7F6EA#32
  | 50 => 0x3E9D9236#32
  | 51 => 0x3F73B97C#32
  | 52 => 0xBF975E1E#32
  | 53 => 0x3F3DB458#32
  | 54 => 0xBE35EB7B#32
  | 55 => 0xBE5ECBFC#32
  | 56 => 0x3F7002B1#32
  | 57 => 0xBF9D8AAF#32
  | 58 => 0x3C20B297#32
  | 59 => 0x40714528#32
  | 60 => 0x3F4635B8#32
  | 61 => 0x40026E05#32
  | 62 => 0x3E0DDE55#32
  | 63 => 0x3F92B4B3#32
  | 64 => 0x3D9F1BEA#32
  | 65 => 0x3F35CE39#32
  | 66 => 0x4021AF89#32
  | 67 => 0xBF28B28B#32
  | 68 => 0x3F86CD7F#32
  | 69 => 0x3D88A27B#32
  | 70 => 0x3F365319#32
  | 71 => 0x4029D015#32
  | 72 => 0xBFF2AAE9#32
  | 73 => 0x3E01A38D#32
  | 74 => 0x3EF0DA94#32
  | 75 => 0x40189669#32
  | 76 => 0x406B5507#32
  | 77 => 0x3EF47461#32
  | 78 => 0xBCC15B74#32
  | 79 => 0x3E411BC3#32
  | 80 => 0x404617C7#32
  | 81 => 0xBF26B548#32
  | 82 => 0x4022DA61#32
  | 83 => 0x3EE05F9A#32
  | 84 => 0x3FA5E334#32
  | 85 => 0xBF9A4D72#32
  | 86 => 0x3E38E588#32
  | 87 => 0x3F71EA7A#32
  | 88 => 0x3F83EA25#32
  | 89 => 0x3E737BC7#32
  | 90 => 0x3FAD235D#32
  | 91 => 0x3DFDF6F2#32
  | 92 => 0xBF094AC7#32
  | 93 => 0xBE0E26AD#32
  | 94 => 0x3F005707#32
  | 95 => 0x3FE63E68#32
  | 96 => 0x3E700BA8#32
  | 97 => 0x3EAC82AF#32
  | 98 => 0x402B8D9D#32
  | 99 => 0x3EA723F3#32
  | 100 => 0xBE663B98#32
  | 101 => 0x40040470#32
  | 102 => 0x3F28B903#32
  | 103 => 0xBF57D185#32
  | 104 => 0xBF44B60F#32
  | 105 => 0x401BB664#32
  | 106 => 0x3FDB022C#32
  | 107 => 0x3EBBF924#32
  | 108 => 0x4051A32D#32
  | 109 => 0x3FB7AEF1#32
  | 110 => 0xBF9F2F20#32
  | 111 => 0x3FB2301C#32
  | 112 => 0x3ED71771#32
  | 113 => 0xBF98202E#32
  | 114 => 0xBFA61034#32
  | 115 => 0x3FE58F24#32
  | 116 => 0xBF0388EA#32
  | 117 => 0xBEAB27B1#32
  | 118 => 0x3E864297#32
  | 119 => 0xBFAF26C8#32
  | 120 => 0x3EA96C06#32
  | 121 => 0xBD8AF3B3#32
  | 122 => 0xBE801C15#32
  | 123 => 0x3E1E3B4F#32
  | 124 => 0xBF00A7F2#32
  | 125 => 0xBF1C9522#32
  | 126 => 0x4019ED6F#32
  | 127 => 0xBF5832C7#32
  | _ => 0#32

noncomputable abbrev lit0t0_200 (i : Nat) : BitVec 32 := match i % 128 with
  | 0 => 0x4014F2E4#32
  | 1 => 0x3F7E70FC#32
  | 2 => 0x3E8D0111#32
  | 3 => 0xBEC1D6B4#32
  | 4 => 0x4010B68F#32
  | 5 => 0xBE4B103D#32
  | 6 => 0x3D35FC4E#32
  | 7 => 0xBF7987C6#32
  | 8 => 0x3C87CAC8#32
  | 9 => 0x3EA92CF0#32
  | 10 => 0xBF2DABB9#32
  | 11 => 0x3F97B902#32
  | 12 => 0x3DAF4680#32
  | 13 => 0x3F3CDE80#32
  | 14 => 0x3FCEE1C2#32
  | 15 => 0xBE93861B#32
  | 16 => 0xBE531EEF#32
  | 17 => 0xBEBB2166#32
  | 18 => 0x4020125D#32
  | 19 => 0x3E70110D#32
  | 20 => 0xBE6412B8#32
  | 21 => 0x3FF70D9D#32
  | 22 => 0x3FABC2CF#32
  | 23 => 0x3F1C8D85#32
  | 24 => 0xBEE68620#32
  | 25 => 0xBE36415D#32
  | 26 => 0x40100DFD#32
  | 27 => 0x40854D22#32
  | 28 => 0x3FDDDF3D#32
  | 29 => 0x3FD61B36#32
  | 30 => 0xBF0EB01E#32
  | 31 => 0x3F747BED#32
  | 32 => 0x3E8108AF#32
  | 33 => 0xBF83EFEE#32
  | 34 => 0x3E31C626#32
  | 35 => 0xBF07AFA7#32
  | 36 => 0xBEAABBE7#32
  | 37 => 0x3FA91B97#32
  | 38 => 0xBF6D8DF7#32
  | 39 => 0xBF7223B2#32
  | 40 => 0x3EB2127A#32
  | 41 => 0xBD0914AC#32
  | 42 => 0x401FBC71#32
  | 43 => 0x3EE1939E#32
  | 44 => 0x400B4FBB#32
  | 45 => 0xBF99B75D#32
  | 46 => 0xBF3A91AC#32
  | 47 => 0xBE32704F#32
  | 48 => 0x3FBBDF1F#32
  | 49 => 0xBF8AF3DA#32
  | 50 => 0xBEDF8466#32
  | 51 => 0x3F9045FE#32
  | 52 => 0x3F250D23#32
  | 53 => 0x3E09E1F9#32
  | 54 => 0x3F22FCE1#32
  | 55 => 0x3F035620#32
  | 56 => 0x3ECA50AF#32
  | 57 => 0xBE4251B2#32
  | 58 => 0x3F12F91E#32
  | 59 => 0x3FB1BD5E#32
  | 60 => 0x3FEBAB00#32
  | 61 => 0x3E7DAFB1#32
  | 62 => 0xBF08C6C1#32
  | 63 => 0x4037E1A8#32
  | 64 => 0x3FA9A3C6#32
  | 65 => 0xBF2B1719#32
  | 66 => 0xBE9FFCC2#32
  | 67 => 0x3DB2DCD8#32
  | 68 => 0x3F8E5B8D#32
  | 69 => 0xBF45E7F9#32
  | 70 => 0xBDCDBCC7#32
  | 71 => 0xBD31F9E6#32
  | 72 => 0x3E7DC9A2#32
  | 73 => 0xBF8854F6#32
  | 74 => 0x3EF377BC#32
  | 75 => 0x3E831E2B#32
  | 76 => 0xBF21514E#32
  | 77 => 0xBF8690EE#32
  | 78 => 0x3DF911F3#32
  | 79 => 0x3F999EE6#32
  | 80 => 0xBEAE9E3D#32
  | 81 => 0xBE8917FB#32
  | 82 => 0x3F20114E#32
  | 83 => 0x3FB3223A#32
  | 84 => 0x403BCEB2#32
  | 85 => 0x40161F4B#32
  | 86 => 0xBDC7FC3B#32
  | 87 => 0xBF832B61#32
  | 88 => 0xBE575848#32
  | 89 => 0xBE9B0AAC#32
  | 90 => 0x3F90859E#32
  | 91 => 0xBF95969B#32
  | 92 => 0x3FF973E2#32
  | 93 => 0xBDBC2C16#32
  | 94 => 0x3F028060#32
  | 95 => 0x403F55D0#32
  | 96 => 0x3F8B8F42#32
  | 97 => 0xBEFBF358#32
  | 98 => 0x3E23827F#32
  | 99 => 0x3EF08D8E#32
  | 100 => 0x3FC44D2C#32
  | 101 => 0xBF1B0532#32
  | 102 => 0x3EC15A38#32
  | 103 => 0x3F80FF66#32
  | 104 => 0xBE6DC395#32
  | 105 => 0xBEE2E5DA#32
  | 106 => 0x3FA51724#32
  | 107 => 0x40091FAA#32
  | 108 => 0x409A2242#32
  | 109 => 0xBEBD75DF#32
  | 110 => 0x3ECCE489#32
  | 111 => 0x4005E2BC#32
  | 112 => 0xBFA2CF90#32
  | 113 => 0xBF135B61#32
  | 114 => 0x3E765215#32
  | 115 => 0x3E31FCB1#32
  | 116 => 0x3FC9BBB2#32
  | 117 => 0x3F294580#32
  | 118 => 0x4012EFD0#32
  | 119 => 0xBEEB9AEE#32
  | 120 => 0x40002C0C#32
  | 121 => 0x3FA88FBE#32
  | 122 => 0x3F2C065C#32
  | 123 => 0xBF15EC59#32
  | 124 => 0xBF0721B8#32
  | 125 => 0xBD518FAC#32
  | 126 => 0xBEBF055B#32
  | 127 => 0xBDC40166#32
  | _ => 0#32

noncomputable abbrev lit0t0_201 (i : Nat) : BitVec 32 := match i % 128 with
  | 0 => 0x3F144AB4#32
  | 1 => 0x3FF1A931#32
  | 2 => 0x406B99E7#32
  | 3 => 0x3F9E454B#32
  | 4 => 0x3FEDB1D7#32
  | 5 => 0x3E980EEC#32
  | 6 => 0xBE839122#32
  | 7 => 0xBF9EF914#32
  | 8 => 0x40132192#32
  | 9 => 0xBE87408B#32
  | 10 => 0x3E82C835#32
  | 11 => 0x3F6C3A90#32
  | 12 => 0x3F8C8B3E#32
  | 13 => 0xBFB7C9D0#32
  | 14 => 0xBD49BA6B#32
  | 15 => 0x3F3EBD0D#32
  | 16 => 0xBF356E66#32
  | 17 => 0xBADBD0CA#32
  | 18 => 0x3E5D420D#32
  | 19 => 0x3EA3D0EF#32
  | 20 => 0xBF81A275#32
  | 21 => 0x4067E5B5#32
  | 22 => 0xBF6F4497#32
  | 23 => 0x3F32EF31#32
  | 24 => 0x4053589C#32
  | 25 => 0x3ECCA8E3#32
  | 26 => 0x3FA3BC84#32
  | 27 => 0xBF6923BA#32
  | 28 => 0x3E5A5AE1#32
  | 29 => 0x3FD24215#32
  | 30 => 0x3EAC8C6C#32
  | 31 => 0xBD9E08C3#32
  | 32 => 0x400EC5D7#32
  | 33 => 0x3F8A20FD#32
  | 34 => 0xBF299343#32
  | 35 => 0x3F940DAB#32
  | 36 => 0x3FE7872A#32
  | 37 => 0xBF461BC4#32
  | 38 => 0xBF872F80#32
  | 39 => 0xBF858784#32
  | 40 => 0x4011D2E3#32
  | 41 => 0x3EF4C8CB#32
  | 42 => 0x400E8B8A#32
  | 43 => 0x3F381BA2#32
  | 44 => 0xBF1D3814#32
  | 45 => 0x3DACFB7F#32
  | 46 => 0x3EE28FAA#32
  | 47 => 0x3F96F3F0#32
  | 48 => 0xBF257E52#32
  | 49 => 0x3F3B4D45#32
  | 50 => 0x3F20F1DD#32
  | 51 => 0x3ED1CFBC#32
  | 52 => 0x3FE64904#32
  | 53 => 0x4016C9B3#32
  | 54 => 0x3FF37905#32
  | 55 => 0xBFD62D59#32
  | 56 => 0xBF822387#32
  | 57 => 0x402889F1#32
  | 58 => 0xBF7B2688#32
  | 59 => 0x40887CAA#32
  | 60 => 0x3F614388#32
  | 61 => 0x4014A784#32
  | 62 => 0xBE9C5D21#32
  | 63 => 0xBEF2C23C#32
  | 64 => 0x3F9B8CA3#32
  | 65 => 0x3F7A4864#32
  | 66 => 0x3FFC19E0#32
  | 67 => 0xBF4C6324#32
  | 68 => 0xBDEDB4A0#32
  | 69 => 0xBE6D823D#32
  | 70 => 0xBBFFC7C5#32
  | 71 => 0x3E2F9BDD#32
  | 72 => 0xBDA3B4CB#32
  | 73 => 0xBEA19302#32
  | 74 => 0x3FA52358#32
  | 75 => 0xBE2A6FC4#32
  | 76 => 0x405434DC#32
  | 77 => 0xBE2E8D57#32
  | 78 => 0xBED2F1B6#32
  | 79 => 0x3EB66613#32
  | 80 => 0x407B4327#32
  | 81 => 0x3EA082B8#32
  | 82 => 0x3E55863A#32
  | 83 => 0x3F1AA0C0#32
  | 84 => 0x3F4EAA63#32
  | 85 => 0x3EB3D7A5#32
  | 86 => 0x3FB341ED#32
  | 87 => 0x3F2A71D2#32
  | 88 => 0xBF96A013#32
  | 89 => 0xBDBAADD8#32
  | 90 => 0x3F0122BC#32
  | 91 => 0xBDFE3008#32
  | 92 => 0xBE179680#32
  | 93 => 0xBF8851B4#32
  | 94 => 0xBE9DCEBE#32
  | 95 => 0xBFC32B53#32
  | 96 => 0xBE2F1126#32
  | 97 => 0xBD390DAD#32
  | 98 => 0xBF6B5E4B#32
  | 99 => 0x40955126#32
  | 100 => 0x4028C7A9#32
  | 101 => 0x3F640BBD#32
  | 102 => 0xBEC1CC03#32
  | 103 => 0x3E89BCAA#32
  | 104 => 0xBF17BF48#32
  | 105 => 0x3F13D1D4#32
  | 106 => 0x3E1D8DDF#32
  | 107 => 0x3FA86BDA#32
  | 108 => 0x3E8220F2#32
  | 109 => 0xBDF37D78#32
  | 110 => 0xBEAB7DEF#32
  | 111 => 0x3E91D5E9#32
  | 112 => 0x3E0481E3#32
  | 113 => 0x3FCC5AF8#32
  | 114 => 0x3E84F5AB#32
  | 115 => 0x3F48ADF6#32
  | 116 => 0x3E299271#32
  | 117 => 0x3F0EC75D#32
  | 118 => 0x40275D26#32
  | 119 => 0x3F025452#32
  | 120 => 0x3E880420#32
  | 121 => 0x3F342F71#32
  | 122 => 0xBFA01756#32
  | 123 => 0x3F1460F2#32
  | 124 => 0x400C9308#32
  | 125 => 0x3D6A1B00#32
  | 126 => 0x3E828143#32
  | 127 => 0x3F545D10#32
  | _ => 0#32

noncomputable abbrev lit0t0_202 (i : Nat) : BitVec 32 := match i % 128 with
  | 0 => 0x3F9AAB65#32
  | 1 => 0x3E60A172#32
  | 2 => 0x40274A84#32
  | 3 => 0xBFA0FC0B#32
  | 4 => 0x3FD775DA#32
  | 5 => 0xBF35244F#32
  | 6 => 0x3F764802#32
  | 7 => 0x4055F9A8#32
  | 8 => 0x407E0494#32
  | 9 => 0xBE7AC1A5#32
  | 10 => 0x3F722466#32
  | 11 => 0x3FB956AB#32
  | 12 => 0xBD8D063B#32
  | 13 => 0x3FBBA0B6#32
  | 14 => 0x3DDAD5DE#32
  | 15 => 0xBF532B0C#32
  | 16 => 0x3EA72CA2#32
  | 17 => 0x402A1DA9#32
  | 18 => 0x3F89AA9D#32
  | 19 => 0xBF4ECC8A#32
  | 20 => 0x3FF0B6DD#32
  | 21 => 0x3F999896#32
  | 22 => 0x3FA73DEF#32
  | 23 => 0x3F169B4B#32
  | 24 => 0x405CA6BF#32
  | 25 => 0xBEAFD82B#32
  | 26 => 0xBF4E1225#32
  | 27 => 0x3E14BEDC#32
  | 28 => 0x3D3FC1BC#32
  | 29 => 0x4016BF59#32
  | 30 => 0x3FA3D509#32
  | 31 => 0x3FBB6E25#32
  | 32 => 0x3D4F8905#32
  | 33 => 0x3EDF61B6#32
  | 34 => 0xBF0626FF#32
  | 35 => 0xBF1538E9#32
  | 36 => 0x3F5C7018#32
  | 37 => 0xBEB43F22#32
  | 38 => 0x3FEC0F8E#32
  | 39 => 0xBE9D859F#32
  | 40 => 0xBF129F2D#32
  | 41 => 0x400E2861#32
  | 42 => 0x403CDB33#32
  | 43 => 0xBEB0E5CA#32
  | 44 => 0xBDE61E8B#32
  | 45 => 0xBE0020E5#32
  | 46 => 0x3E8BFE73#32
  | 47 => 0x3EB96F7D#32
  | 48 => 0xBFE2FBC0#32
  | 49 => 0x3F580AD3#32
  | 50 => 0xBE963458#32
  | 51 => 0x3F8A248A#32
  | 52 => 0xBF67A367#32
  | 53 => 0x3FCEC3E3#32
  | 54 => 0x3FBE41FA#32
  | 55 => 0xBEE81874#32
  | 56 => 0xBEBC5E4A#32
  | 57 => 0xBF1A1E0F#32
  | 58 => 0xBF8BAB99#32
  | 59 => 0x3D32B396#32
  | 60 => 0xBF1BEAF6#32
  | 61 => 0x3E92D04D#32
  | 62 => 0x40375D49#32
  | 63 => 0x3F94BE25#32
  | 64 => 0x402DF971#32
  | 65 => 0x4008E1C4#32
  | 66 => 0xBF1FB0DE#32
  | 67 => 0x3E15BB0F#32
  | 68 => 0x4051D7CC#32
  | 69 => 0x4006090C#32
  | 70 => 0x4048EC92#32
  | 71 => 0x3FC9FDBE#32
  | 72 => 0x3F88AAC2#32
  | 73 => 0x3F069411#32
  | 74 => 0x3F172A5D#32
  | 75 => 0xBEEF1482#32
  | 76 => 0x3EBC68B8#32
  | 77 => 0xBB62FB42#32
  | 78 => 0x40A42358#32
  | 79 => 0x3CA62010#32
  | 80 => 0xBF3F1F35#32
  | 81 => 0x3DBAA1FE#32
  | 82 => 0xBE38CFFC#32
  | 83 => 0x3FB4108A#32
  | 84 => 0x407DAC86#32
  | 85 => 0xBF38FF9C#32
  | 86 => 0x3E8073F7#32
  | 87 => 0x3FB51B7C#32
  | 88 => 0x3F1C672B#32
  | 89 => 0xBF82D41E#32
  | 90 => 0x3F4D2BC7#32
  | 91 => 0x401737BE#32
  | 92 => 0xBE7C8300#32
  | 93 => 0xBE8D7764#32
  | 94 => 0xBF998528#32
  | 95 => 0x3F7FC442#32
  | 96 => 0x4092E808#32
  | 97 => 0xBF88B9AC#32
  | 98 => 0x40F32793#32
  | 99 => 0xBF2BA503#32
  | 100 => 0xBFF2C6DC#32
  | 101 => 0x3EB34574#32
  | 102 => 0xBF46EA21#32
  | 103 => 0xBF43D901#32
  | 104 => 0x4008C7EE#32
  | 105 => 0xBF8CFFF1#32
  | 106 => 0x3F95DF91#32
  | 107 => 0x40269CBA#32
  | 108 => 0x3F2A4B5D#32
  | 109 => 0x3F7F9592#32
  | 110 => 0x409886F3#32
  | 111 => 0x40241197#32
  | 112 => 0xBF585CD6#32
  | 113 => 0xBF150567#32
  | 114 => 0x401A0F12#32
  | 115 => 0xBFB8A8B3#32
  | 116 => 0x3CE84E0C#32
  | 117 => 0xBF7B39D0#32
  | 118 => 0xBDE9586B#32
  | 119 => 0x3F7EB0DA#32
  | 120 => 0x4062F71F#32
  | 121 => 0xBF5F60E7#32
  | 122 => 0x3F5EAB5D#32
  | 123 => 0x3E896E2A#32
  | 124 => 0xBCE32936#32
  | 125 => 0x40038A02#32
  | 126 => 0xBF4EE8BC#32
  | 127 => 0xBB0FA7AA#32
  | _ => 0#32

noncomputable abbrev lit0t0_203 (i : Nat) : BitVec 32 := match i % 128 with
  | 0 => 0x3E95B6EC#32
  | 1 => 0x4014D40A#32
  | 2 => 0x3E798694#32
  | 3 => 0x3E81BD1C#32
  | 4 => 0xBDB324FB#32
  | 5 => 0x3F14176E#32
  | 6 => 0x3FB1366B#32
  | 7 => 0x3F0533A8#32
  | 8 => 0x402FCD4D#32
  | 9 => 0xBE53FD27#32
  | 10 => 0x3FE6E422#32
  | 11 => 0x3EEA9F04#32
  | 12 => 0xBEFDD97F#32
  | 13 => 0x3FF0CAA7#32
  | 14 => 0x3F08526B#32
  | 15 => 0x3E910995#32
  | 16 => 0x404730A9#32
  | 17 => 0x3E47AA3D#32
  | 18 => 0x3FA7E432#32
  | 19 => 0x3FF45650#32
  | 20 => 0x400CFD25#32
  | 21 => 0x3F8AB1D4#32
  | 22 => 0x3F90A03B#32
  | 23 => 0x3FCCF385#32
  | 24 => 0xBF20630E#32
  | 25 => 0x3DF7006D#32
  | 26 => 0x3F4C39EE#32
  | 27 => 0x3FCC1CAA#32
  | 28 => 0x3F97A872#32
  | 29 => 0x3FAD1A4E#32
  | 30 => 0xBF278996#32
  | 31 => 0x4057F8CA#32
  | 32 => 0xBFAA7B5D#32
  | 33 => 0x3EA8DB73#32
  | 34 => 0x3F4D8C01#32
  | 35 => 0x3F96F1A8#32
  | 36 => 0xBF0A0CB4#32
  | 37 => 0x3F56447A#32
  | 38 => 0x3F89ECE7#32
  | 39 => 0x3E7A7B83#32
  | 40 => 0x3FD1E81E#32
  | 41 => 0x404E1E3D#32
  | 42 => 0xBF8B2487#32
  | 43 => 0xBF079757#32
  | 44 => 0x40841C50#32
  | 45 => 0xBDF93A7F#32
  | 46 => 0x3FFE6649#32
  | 47 => 0xBF0A8A0D#32
  | 48 => 0x3E82B4BB#32
  | 49 => 0xBFC4FBEE#32
  | 50 => 0xBF2EEFF2#32
  | 51 => 0x3EF6FB28#32
  | 52 => 0xBF54385E#32
  | 53 => 0x3F42485E#32
  | 54 => 0xBF0578B2#32
  | 55 => 0x3FF9F1DA#32
  | 56 => 0xBF4CCDAD#32
  | 57 => 0x3F7D18C1#32
  | 58 => 0xBF88A75F#32
  | 59 => 0x3FF2AD30#32
  | 60 => 0x3F78D10E#32
  | 61 => 0x400760A0#32
  | 62 => 0xBE4FA575#32
  | 63 => 0x40129956#32
  | 64 => 0x4029B6A0#32
  | 65 => 0xBCFF569F#32
  | 66 => 0x3E0764C0#32
  | 67 => 0x3D89A95A#32
  | 68 => 0xBF69C141#32
  | 69 => 0x3FAE6FAF#32
  | 70 => 0x3FB4C32F#32
  | 71 => 0x3FAF6736#32
  | 72 => 0x4012E90E#32
  | 73 => 0xBE009363#32
  | 74 => 0xBE2711D8#32
  | 75 => 0xBF025A26#32
  | 76 => 0xBF805E0B#32
  | 77 => 0x3F2997D2#32
  | 78 => 0x3F04427B#32
  | 79 => 0xBE9B27C5#32
  | 80 => 0xBEA24408#32
  | 81 => 0x3F9B9ED1#32
  | 82 => 0xBEA25EC0#32
  | 83 => 0x3F61E8FD#32
  | 84 => 0xBF8260B9#32
  | 85 => 0x3F0EC2B2#32
  | 86 => 0x40390CE0#32
  | 87 => 0x3F197C3C#32
  | 88 => 0x3F3F5EF7#32
  | 89 => 0x40241862#32
  | 90 => 0x3E9C412E#32
  | 91 => 0xBF4C4153#32
  | 92 => 0x3EB34A63#32
  | 93 => 0x3F061812#32
  | 94 => 0x3F76B1E4#32
  | 95 => 0xBF3DB922#32
  | 96 => 0x3D3C4B4C#32
  | 97 => 0xBE06B729#32
  | 98 => 0x3F0939D2#32
  | 99 => 0xBF992079#32
  | 100 => 0xBE420526#32
  | 101 => 0x3FDF2884#32
  | 102 => 0x3E322467#32
  | 103 => 0xBEB1FE1A#32
  | 104 => 0x3D336E00#32
  | 105 => 0x4007257C#32
  | 106 => 0xBFCA9FFC#32
  | 107 => 0x3F4C8157#32
  | 108 => 0x3E97C66D#32
  | 109 => 0x3F09061B#32
  | 110 => 0x3F837C65#32
  | 111 => 0x3FD770A2#32
  | 112 => 0xBF616D3E#32
  | 113 => 0x3F877F4A#32
  | 114 => 0xBF8A3958#32
  | 115 => 0x3FB69663#32
  | 116 => 0xBEBCCEDD#32
  | 117 => 0x3F800262#32
  | 118 => 0x3EAAF7F8#32
  | 119 => 0x3FD5C46A#32
  | 120 => 0x3F23FF21#32
  | 121 => 0x40917EC9#32
  | 122 => 0x3F256D41#32
  | 123 => 0x3F94E003#32
  | 124 => 0x3C8D3B61#32
  | 125 => 0x3F235A59#32
  | 126 => 0x3FB13ED5#32
  | 127 => 0x3F80786C#32
  | _ => 0#32

noncomputable abbrev lit0t0_204 (i : Nat) : BitVec 32 := match i % 128 with
  | 0 => 0x3FCDA40E#32
  | 1 => 0xBF93988A#32
  | 2 => 0x3F439058#32
  | 3 => 0xBEB7D48C#32
  | 4 => 0xBF9A87A7#32
  | 5 => 0xBF0D8DF0#32
  | 6 => 0xBF19CD15#32
  | 7 => 0xBFAC5DD0#32
  | 8 => 0x40122AAD#32
  | 9 => 0xBF2CD15F#32
  | 10 => 0x3F3218FA#32
  | 11 => 0xBF36DAAB#32
  | 12 => 0x3F1F55C0#32
  | 13 => 0x3D9FD5FA#32
  | 14 => 0x40450D10#32
  | 15 => 0x3FBDBE98#32
  | 16 => 0x3F00FE56#32
  | 17 => 0xBF9C43A3#32
  | 18 => 0x408E156B#32
  | 19 => 0x3F00B8D7#32
  | 20 => 0x3E4F90A3#32
  | 21 => 0x3D425F1E#32
  | 22 => 0x3EFD740C#32
  | 23 => 0xBF07697A#32
  | 24 => 0x40AC5381#32
  | 25 => 0x402154DE#32
  | 26 => 0xBF92F0C8#32
  | 27 => 0x3F7C05B8#32
  | 28 => 0x3F2E73EB#32
  | 29 => 0x3FFC9301#32
  | 30 => 0x3F39D814#32
  | 31 => 0x3ED1425A#32
  | 32 => 0x3E900D97#32
  | 33 => 0x400468BD#32
  | 34 => 0xBD66B5BB#32
  | 35 => 0x3F02047D#32
  | 36 => 0xBE1EFEA6#32
  | 37 => 0x3E0BC8EB#32
  | 38 => 0xBD542A35#32
  | 39 => 0xBEB8C1F9#32
  | 40 => 0xBF45F60A#32
  | 41 => 0x3FB572AE#32
  | 42 => 0x40A8DD17#32
  | 43 => 0xBEEBFFB2#32
  | 44 => 0xBD073278#32
  | 45 => 0x4087223D#32
  | 46 => 0x3FAF0D7A#32
  | 47 => 0x402618DA#32
  | 48 => 0x401DB599#32
  | 49 => 0xBE919879#32
  | 50 => 0x3F8B0458#32
  | 51 => 0x3E0243BD#32
  | 52 => 0x3FAAA738#32
  | 53 => 0x401E019F#32
  | 54 => 0xBE2B95D2#32
  | 55 => 0xBE7D9390#32
  | 56 => 0x3D5DEBDC#32
  | 57 => 0x3FA762E3#32
  | 58 => 0x3F1BEAF8#32
  | 59 => 0x3F2D75CA#32
  | 60 => 0xBE541E34#32
  | 61 => 0xBDB3FC6D#32
  | 62 => 0x3F4FB4DF#32
  | 63 => 0xBED0AAB6#32
  | 64 => 0x4007AEAD#32
  | 65 => 0xBE088643#32
  | 66 => 0x4008D948#32
  | 67 => 0x3DBC38A7#32
  | 68 => 0x3F9B712B#32
  | 69 => 0x401D9A53#32
  | 70 => 0x3FC29FE8#32
  | 71 => 0x3F0A069D#32
  | 72 => 0x3F1D4058#32
  | 73 => 0xB9F4B161#32
  | 74 => 0xBE345128#32
  | 75 => 0x3E025CCF#32
  | 76 => 0xBEAC1E98#32
  | 77 => 0x3EA7A8C0#32
  | 78 => 0x400441C4#32
  | 79 => 0xBF3959D4#32
  | 80 => 0xBE74EBBA#32
  | 81 => 0xBF406039#32
  | 82 => 0xBBD71CDA#32
  | 83 => 0x3F001FAE#32
  | 84 => 0x404922F6#32
  | 85 => 0x40776125#32
  | 86 => 0x3EA3F429#32
  | 87 => 0xBE109BAC#32
  | 88 => 0x3EC39DF9#32
  | 89 => 0xBEC575C3#32
  | 90 => 0x401D6136#32
  | 91 => 0x3F626C3D#32
  | 92 => 0x3D1884AE#32
  | 93 => 0xBF6A31DA#32
  | 94 => 0x402CF5EA#32
  | 95 => 0x3FB86663#32
  | 96 => 0xBE1C57FD#32
  | 97 => 0x3E64864D#32
  | 98 => 0x3EB93E5E#32
  | 99 => 0xBF4F7ADA#32
  | 100 => 0x3FCD5974#32
  | 101 => 0x3F302B4F#32
  | 102 => 0x3FB67F50#32
  | 103 => 0x3DC3FDEC#32
  | 104 => 0xBED1F1DF#32
  | 105 => 0x3EFF47F9#32
  | 106 => 0x3F169D1C#32
  | 107 => 0xBF41FFB3#32
  | 108 => 0xBD327E24#32
  | 109 => 0x400FC8D7#32
  | 110 => 0x3F13F37C#32
  | 111 => 0xBCCC6F81#32
  | 112 => 0xBF441267#32
  | 113 => 0x3EF13B61#32
  | 114 => 0x3FAC28C7#32
  | 115 => 0x3F8BE381#32
  | 116 => 0x402131B4#32
  | 117 => 0x3E567DA8#32
  | 118 => 0xBF28698E#32
  | 119 => 0xBE39F450#32
  | 120 => 0x40495A47#32
  | 121 => 0x3FC06B1E#32
  | 122 => 0x407356E0#32
  | 123 => 0xBF38B641#32
  | 124 => 0xBF43FB88#32
  | 125 => 0x3F9EBE6E#32
  | 126 => 0x3F6A7EF8#32
  | 127 => 0x3F308266#32
  | _ => 0#32

noncomputable abbrev lit0t0_205 (i : Nat) : BitVec 32 := match i % 128 with
  | 0 => 0xBEC58A7A#32
  | 1 => 0x3F8E4B36#32
  | 2 => 0x3F18BC66#32
  | 3 => 0xBF52C649#32
  | 4 => 0x401C23EC#32
  | 5 => 0xBE987221#32
  | 6 => 0x3C0BC9FB#32
  | 7 => 0xBEDD1B88#32
  | 8 => 0x3E78C7A8#32
  | 9 => 0x4056F010#32
  | 10 => 0xBED3DCE8#32
  | 11 => 0xBF3D2C7E#32
  | 12 => 0x3F7FE6EB#32
  | 13 => 0x3F6CA0E7#32
  | 14 => 0x3FBF02A7#32
  | 15 => 0x40084CF8#32
  | 16 => 0x3F0B780D#32
  | 17 => 0xBF81CB56#32
  | 18 => 0x3E123B71#32
  | 19 => 0xBF17F63E#32
  | 20 => 0x3E878EB2#32
  | 21 => 0x40649DC3#32
  | 22 => 0xBD82FA80#32
  | 23 => 0x3FC5E86D#32
  | 24 => 0xBF78D4BD#32
  | 25 => 0x3F76025A#32
  | 26 => 0x3F41429E#32
  | 27 => 0xBE621684#32
  | 28 => 0x3F4A279A#32
  | 29 => 0x4001336A#32
  | 30 => 0x401E34C1#32
  | 31 => 0x3FB50796#32
  | 32 => 0xBEDFAFBB#32
  | 33 => 0x3F956A41#32
  | 34 => 0x3F8EDE91#32
  | 35 => 0x3D9AD24F#32
  | 36 => 0x3FE4A8BE#32
  | 37 => 0x3D2DEE52#32
  | 38 => 0x3EF6FC9D#32
  | 39 => 0x3D8DF277#32
  | 40 => 0x4065742E#32
  | 41 => 0xBE869643#32
  | 42 => 0xBF9F7CFF#32
  | 43 => 0x3F48EFE2#32
  | 44 => 0xBF7C7F64#32
  | 45 => 0x3FDE1670#32
  | 46 => 0xBF7A053A#32
  | 47 => 0x3BB3393F#32
  | 48 => 0x403958B5#32
  | 49 => 0xBF8417D0#32
  | 50 => 0x3E1EA14E#32
  | 51 => 0x3F5A4BA3#32
  | 52 => 0x3FAFABA3#32
  | 53 => 0xBF1D49C4#32
  | 54 => 0x3FD67D88#32
  | 55 => 0x3D82D6C0#32
  | 56 => 0x3FD5983A#32
  | 57 => 0x3F40772E#32
  | 58 => 0x3F95155D#32
  | 59 => 0x3F9F15DB#32
  | 60 => 0x401B8E73#32
  | 61 => 0xBF4DD4B6#32
  | 62 => 0xBF1C5F46#32
  | 63 => 0x4032B4D7#32
  | 64 => 0xBBAC3BEB#32
  | 65 => 0x400EC4D4#32
  | 66 => 0x3EACD3FB#32
  | 67 => 0xBF3FA075#32
  | 68 => 0x3F56C2FD#32
  | 69 => 0xBE85C5AA#32
  | 70 => 0xBF43ABB0#32
  | 71 => 0x3DEA6FC0#32
  | 72 => 0x3ECB704E#32
  | 73 => 0x3F345714#32
  | 74 => 0xBEA4AAC8#32
  | 75 => 0x3F177DF1#32
  | 76 => 0xBF2D9442#32
  | 77 => 0x3F862F8F#32
  | 78 => 0xBF03946E#32
  | 79 => 0x3E86465C#32
  | 80 => 0x3FA64ED7#32
  | 81 => 0x400FC5F2#32
  | 82 => 0x3F40F078#32
  | 83 => 0x3E97D7D7#32
  | 84 => 0xBF3E70AE#32
  | 85 => 0xBF2CAFD6#32
  | 86 => 0xBF7DD96E#32
  | 87 => 0x3FD47B14#32
  | 88 => 0xBF9CA62A#32
  | 89 => 0x3F39DCBF#32
  | 90 => 0x3FE92242#32
  | 91 => 0xBF5CA050#32
  | 92 => 0xBF46A5C7#32
  | 93 => 0xBE357D1A#32
  | 94 => 0xBE9FC919#32
  | 95 => 0x3DF0CD5D#32
  | 96 => 0xBF90E986#32
  | 97 => 0x40B701A0#32
  | 98 => 0xBF745D17#32
  | 99 => 0x3F10CD12#32
  | 100 => 0x3F23545A#32
  | 101 => 0xBF8E585D#32
  | 102 => 0x3FADA241#32
  | 103 => 0x3FA50EAD#32
  | 104 => 0x3F8F863E#32
  | 105 => 0x3F91F261#32
  | 106 => 0xBD5869CC#32
  | 107 => 0x3F68CABE#32
  | 108 => 0x403A6BC0#32
  | 109 => 0x3F9C3EC5#32
  | 110 => 0x402BE871#32
  | 111 => 0x40280F8C#32
  | 112 => 0x3EDA3A72#32
  | 113 => 0x3F85A7F0#32
  | 114 => 0x3F79934F#32
  | 115 => 0x3FEFCF83#32
  | 116 => 0x4030BBF5#32
  | 117 => 0x3FF93B01#32
  | 118 => 0x3E945408#32
  | 119 => 0xBF3B8EEA#32
  | 120 => 0x3E9B4C99#32
  | 121 => 0x3E14855F#32
  | 122 => 0x3EA45EA9#32
  | 123 => 0x41013EB6#32
  | 124 => 0xBF70DA20#32
  | 125 => 0xBE906FE5#32
  | 126 => 0xBEA34DA5#32
  | 127 => 0x3FEB7DB9#32
  | _ => 0#32

noncomputable abbrev lit0t0_206 (i : Nat) : BitVec 32 := match i % 128 with
  | 0 => 0x3FFEC7A3#32
  | 1 => 0xBF924F69#32
  | 2 => 0xBD4A0D1D#32
  | 3 => 0x3E9B635C#32
  | 4 => 0xBF55B325#32
  | 5 => 0x4011469A#32
  | 6 => 0x40094AA6#32
  | 7 => 0xBFB7A20A#32
  | 8 => 0xBF2CFD0E#32
  | 9 => 0x3E9146D2#32
  | 10 => 0x3EB3DBD0#32
  | 11 => 0x3F620B3C#32
  | 12 => 0x3F615E74#32
  | 13 => 0xBF1BCFE7#32
  | 14 => 0x3F61CDD7#32
  | 15 => 0x3F96AC34#32
  | 16 => 0x3F3C347D#32
  | 17 => 0x3EFD880B#32
  | 18 => 0x3DFD285B#32
  | 19 => 0x3EE188C4#32
  | 20 => 0x40430D5C#32
  | 21 => 0x3E52DBCE#32
  | 22 => 0xBF760C2C#32
  | 23 => 0x3F50262D#32
  | 24 => 0x3E3CCF2E#32
  | 25 => 0xBF5BA32D#32
  | 26 => 0x402CFD94#32
  | 27 => 0x3D525FCA#32
  | 28 => 0x3E417A57#32
  | 29 => 0x3F8718D0#32
  | 30 => 0x3EB7FA43#32
  | 31 => 0x3F171530#32
  | 32 => 0xBF9D0266#32
  | 33 => 0x3E89FAEC#32
  | 34 => 0x40301135#32
  | 35 => 0x3EF4A39A#32
  | 36 => 0xBF36E3E1#32
  | 37 => 0x3FC9F17B#32
  | 38 => 0x3EA99E9F#32
  | 39 => 0x3D023DC3#32
  | 40 => 0x3F84F027#32
  | 41 => 0x3E34F285#32
  | 42 => 0xBEB785E2#32
  | 43 => 0x3F678524#32
  | 44 => 0x3FAFDD5E#32
  | 45 => 0x3E449DD7#32
  | 46 => 0x3E417F45#32
  | 47 => 0x402A0323#32
  | 48 => 0x3F0BFB03#32
  | 49 => 0xBF8CF7FF#32
  | 50 => 0x3E87F27C#32
  | 51 => 0x3F806FD5#32
  | 52 => 0x3FF14F89#32
  | 53 => 0xBF84A845#32
  | 54 => 0xBF1001DF#32
  | 55 => 0x3F9259BF#32
  | 56 => 0xBCA44391#32
  | 57 => 0x3F5584CD#32
  | 58 => 0xBDE08C04#32
  | 59 => 0x3FA15DEF#32
  | 60 => 0x3F524D0F#32
  | 61 => 0x3F591484#32
  | 62 => 0x3FD809EB#32
  | 63 => 0xBF11236A#32
  | 64 => 0x3E9A7824#32
  | 65 => 0x4015EF61#32
  | 66 => 0x3FBB871A#32
  | 67 => 0x400F03B8#32
  | 68 => 0x3EDE8044#32
  | 69 => 0xBE162850#32
  | 70 => 0xBF448208#32
  | 71 => 0xBFE5154A#32
  | 72 => 0x3FF59A64#32
  | 73 => 0x3F0ACD7A#32
  | 74 => 0xBF58D096#32
  | 75 => 0xBC1A3F0B#32
  | 76 => 0x3F0C92DA#32
  | 77 => 0xBC99D3B2#32
  | 78 => 0xBEF49F15#32
  | 79 => 0x3E4FD3C1#32
  | 80 => 0xBE836CD1#32
  | 81 => 0x407FCA3E#32
  | 82 => 0x3DD0397A#32
  | 83 => 0xBEA5B2CD#32
  | 84 => 0x3EA3BEF7#32
  | 85 => 0x3F8A2348#32
  | 86 => 0x3FB16BE2#32
  | 87 => 0x3EBB8B2F#32
  | 88 => 0xBEE3E366#32
  | 89 => 0x3F902607#32
  | 90 => 0xBF0D8723#32
  | 91 => 0xBE2BDDFD#32
  | 92 => 0xBF554E9D#32
  | 93 => 0xBE9FCCE8#32
  | 94 => 0xBE06F823#32
  | 95 => 0xBF489AAC#32
  | 96 => 0x40358DEA#32
  | 97 => 0x3E2B90AB#32
  | 98 => 0x4025093D#32
  | 99 => 0x3EE45FF6#32
  | 100 => 0xBE67FC1F#32
  | 101 => 0x3F2C1BE3#32
  | 102 => 0x3F4DBCC2#32
  | 103 => 0x4005B1E0#32
  | 104 => 0xBF71D6F5#32
  | 105 => 0xBC9B8A16#32
  | 106 => 0x3E852FD0#32
  | 107 => 0x400C39F2#32
  | 108 => 0xBE1A23B5#32
  | 109 => 0x3E8C3E4F#32
  | 110 => 0x3E0A6334#32
  | 111 => 0x3FDA54F6#32
  | 112 => 0x408E0397#32
  | 113 => 0xBDD2B65A#32
  | 114 => 0x3F8ECDDB#32
  | 115 => 0xBD2452C9#32
  | 116 => 0xBF29B178#32
  | 117 => 0x4010C5A4#32
  | 118 => 0xBF31DDB7#32
  | 119 => 0x3EF1F78E#32
  | 120 => 0x3E825FF6#32
  | 121 => 0x4012D610#32
  | 122 => 0x3FF63380#32
  | 123 => 0xBDE4C8B2#32
  | 124 => 0xBF1E18C3#32
  | 125 => 0xBF4FA97D#32
  | 126 => 0x3F9DC3BE#32
  | 127 => 0xBF74A63A#32
  | _ => 0#32

noncomputable abbrev lit0t0_207 (i : Nat) : BitVec 32 := match i % 128 with
  | 0 => 0xBF6D1C9F#32
  | 1 => 0x40935DF4#32
  | 2 => 0x40483061#32
  | 3 => 0x3F88EBD8#32
  | 4 => 0x3FCB6C11#32
  | 5 => 0x3EC02AFE#32
  | 6 => 0x3FD7EB61#32
  | 7 => 0x3E44C0AD#32
  | 8 => 0xBEE1747E#32
  | 9 => 0xBF45B18E#32
  | 10 => 0xBFAC8C33#32
  | 11 => 0xBF695AFE#32
  | 12 => 0x3EB03359#32
  | 13 => 0x404B298E#32
  | 14 => 0x3E276CA2#32
  | 15 => 0xBF472E3E#32
  | 16 => 0xBE6E9D1D#32
  | 17 => 0xBE960FFE#32
  | 18 => 0x400BC63E#32
  | 19 => 0x3F4B9AFB#32
  | 20 => 0xBEDD28E2#32
  | 21 => 0xBC8E6AFD#32
  | 22 => 0x3EB8B76E#32
  | 23 => 0xBDEA9C3A#32
  | 24 => 0x40A3266B#32
  | 25 => 0xBF573CAB#32
  | 26 => 0x4044113E#32
  | 27 => 0xBF036F35#32
  | 28 => 0xBF233AFA#32
  | 29 => 0x3FF20686#32
  | 30 => 0x3F8AA57E#32
  | 31 => 0x3FC2C26E#32
  | 32 => 0xBE961A76#32
  | 33 => 0xBF3B5FCE#32
  | 34 => 0x40510037#32
  | 35 => 0x3DFF5A19#32
  | 36 => 0xBDF792C3#32
  | 37 => 0x3EE11C0E#32
  | 38 => 0xBFAF2ED2#32
  | 39 => 0x3F2C53AE#32
  | 40 => 0x3F198C1A#32
  | 41 => 0xBF3F86F9#32
  | 42 => 0xBF409BB8#32
  | 43 => 0xBF83DA1A#32
  | 44 => 0xBFA4CF78#32
  | 45 => 0x401A6514#32
  | 46 => 0x3F0F6354#32
  | 47 => 0xBE0CBD8B#32
  | 48 => 0x3F89F4B9#32
  | 49 => 0x3E2D4106#32
  | 50 => 0x3FC7EA70#32
  | 51 => 0x3FAFC172#32
  | 52 => 0xBDECCC9F#32
  | 53 => 0x3CE365A9#32
  | 54 => 0x3F7AB13E#32
  | 55 => 0xBFB75E92#32
  | 56 => 0x3F9CD4B7#32
  | 57 => 0x3F1BE048#32
  | 58 => 0x3F0ADE65#32
  | 59 => 0x3E9517CF#32
  | 60 => 0xBF8CD1F0#32
  | 61 => 0xBFA9BC69#32
  | 62 => 0x3E04A8C4#32
  | 63 => 0xBF9A8687#32
  | 64 => 0xBE9A1B24#32
  | 65 => 0xBFB8C207#32
  | 66 => 0x3FBF7BB9#32
  | 67 => 0xBE605CA8#32
  | 68 => 0x3ED4E1CC#32
  | 69 => 0x3FBCB330#32
  | 70 => 0x3F5C719E#32
  | 71 => 0x3DE3A5D9#32
  | 72 => 0x3F2E2530#32
  | 73 => 0x3EC34717#32
  | 74 => 0xBFC7D5BA#32
  | 75 => 0x3EEB32BD#32
  | 76 => 0x3F825D86#32
  | 77 => 0x3FADD79A#32
  | 78 => 0x3D74025D#32
  | 79 => 0x3FF1B9CD#32
  | 80 => 0xBF752445#32
  | 81 => 0xBDBB9875#32
  | 82 => 0x4010C6F9#32
  | 83 => 0x3FDD7F62#32
  | 84 => 0x3F26CB85#32
  | 85 => 0x3F78A5E5#32
  | 86 => 0xBDA101DC#32
  | 87 => 0xBFC429DC#32
  | 88 => 0xBF79C0EA#32
  | 89 => 0xBC038AF4#32
  | 90 => 0x3F3F3E55#32
  | 91 => 0x3F73423D#32
  | 92 => 0x40487C9E#32
  | 93 => 0xBE2ECCBC#32
  | 94 => 0x3F7DF911#32
  | 95 => 0xBD6F6C59#32
  | 96 => 0xBE0DECD8#32
  | 97 => 0x3EEE6F49#32
  | 98 => 0x3F2DF8A2#32
  | 99 => 0xBF15F8D4#32
  | 100 => 0x3ED23CBB#32
  | 101 => 0x3FBECE86#32
  | 102 => 0x4012C6A4#32
  | 103 => 0x3FEBF942#32
  | 104 => 0x3F24D3D5#32
  | 105 => 0x3FBA9E3A#32
  | 106 => 0x3FA748CB#32
  | 107 => 0x3F9EB00B#32
  | 108 => 0x3FB9DA22#32
  | 109 => 0x3F8D908F#32
  | 110 => 0xBF39DF1C#32
  | 111 => 0x3E2AA18B#32
  | 112 => 0x3FB85157#32
  | 113 => 0xBE75443B#32
  | 114 => 0x3F1EB77C#32
  | 115 => 0x40002769#32
  | 116 => 0x409977AB#32
  | 117 => 0xBD3C8BF3#32
  | 118 => 0x3DCB966F#32
  | 119 => 0x4050A691#32
  | 120 => 0x3F923B43#32
  | 121 => 0x3FEC232E#32
  | 122 => 0x3F7956D6#32
  | 123 => 0x3F5A1EAE#32
  | 124 => 0x3F71D08A#32
  | 125 => 0x3FA3C579#32
  | 126 => 0x3DB63A8F#32
  | 127 => 0xBEEE1D1C#32
  | _ => 0#32

noncomputable abbrev lit0t0_208 (i : Nat) : BitVec 32 := match i % 128 with
  | 0 => 0xBFC246A2#32
  | 1 => 0xBE097633#32
  | 2 => 0xBF94881D#32
  | 3 => 0x3F836455#32
  | 4 => 0x3FD0BED1#32
  | 5 => 0x3F2F8ACD#32
  | 6 => 0x401A7E89#32
  | 7 => 0x40430230#32
  | 8 => 0xBF819C56#32
  | 9 => 0x3F06CA80#32
  | 10 => 0x3F037400#32
  | 11 => 0xBF40034B#32
  | 12 => 0x4080CC91#32
  | 13 => 0x3FD786EB#32
  | 14 => 0x405B18B5#32
  | 15 => 0x4008EE23#32
  | 16 => 0xBEB74D4A#32
  | 17 => 0xBD41DDDE#32
  | 18 => 0x3F3059C8#32
  | 19 => 0xBD61B8C6#32
  | 20 => 0x3F5D84ED#32
  | 21 => 0x3F9B3EEE#32
  | 22 => 0x3F82D4F9#32
  | 23 => 0x3DDBC2A0#32
  | 24 => 0x40083DB1#32
  | 25 => 0x40C392A5#32
  | 26 => 0x400D400A#32
  | 27 => 0xBF33CD59#32
  | 28 => 0x3F9C6DA3#32
  | 29 => 0x3FD62E0A#32
  | 30 => 0x3E2A9778#32
  | 31 => 0xBF243EC4#32
  | 32 => 0xBDD35D3D#32
  | 33 => 0xBE090B18#32
  | 34 => 0x3F70BC94#32
  | 35 => 0xBF2BB6C6#32
  | 36 => 0xBED38954#32
  | 37 => 0x3BFB41FA#32
  | 38 => 0x4004B2D0#32
  | 39 => 0xBF8A3406#32
  | 40 => 0xBEB84746#32
  | 41 => 0xBEB33652#32
  | 42 => 0x3ED59D3F#32
  | 43 => 0x3F865E21#32
  | 44 => 0xBEEF53DC#32
  | 45 => 0x3ECFF7AD#32
  | 46 => 0x3E490208#32
  | 47 => 0x405D69C4#32
  | 48 => 0xBF87017C#32
  | 49 => 0x3F19BDBE#32
  | 50 => 0x3E47BAAB#32
  | 51 => 0xBE82EDE5#32
  | 52 => 0x3EA38009#32
  | 53 => 0x3F4C26B8#32
  | 54 => 0x3F94729C#32
  | 55 => 0x40580743#32
  | 56 => 0x4068CA5E#32
  | 57 => 0x407AC2C5#32
  | 58 => 0x3EEE257A#32
  | 59 => 0xBEB2E001#32
  | 60 => 0x3FF22260#32
  | 61 => 0x3F1CED4C#32
  | 62 => 0x3CFF2994#32
  | 63 => 0x3E9B195D#32
  | 64 => 0x3FFF3F31#32
  | 65 => 0xBC2DE6E5#32
  | 66 => 0x4005F316#32
  | 67 => 0x400EFF75#32
  | 68 => 0x3E979B3E#32
  | 69 => 0x404DA474#32
  | 70 => 0x3F292CB4#32
  | 71 => 0xBECF7F5F#32
  | 72 => 0x3EF2DC1C#32
  | 73 => 0x3F9D112A#32
  | 74 => 0xBE4EE6D9#32
  | 75 => 0x3E2AE3B9#32
  | 76 => 0x3F13EC5A#32
  | 77 => 0x3F6808A0#32
  | 78 => 0x3F7A051A#32
  | 79 => 0x4067287D#32
  | 80 => 0xBE808695#32
  | 81 => 0xBFBA3C87#32
  | 82 => 0xBF7A055C#32
  | 83 => 0x3DE5B6A8#32
  | 84 => 0xBDC9A4DC#32
  | 85 => 0x3E49ABFF#32
  | 86 => 0xBF546AC9#32
  | 87 => 0x40421248#32
  | 88 => 0x3FE8BF23#32
  | 89 => 0x408A681A#32
  | 90 => 0x3E578B40#32
  | 91 => 0xBEB7B377#32
  | 92 => 0x4007D8E3#32
  | 93 => 0xBF59BD36#32
  | 94 => 0xBEB89B7A#32
  | 95 => 0x3F6AB551#32
  | 96 => 0x405393E8#32
  | 97 => 0xBED41EAF#32
  | 98 => 0x3DEA4141#32
  | 99 => 0x3E2791C9#32
  | 100 => 0x3FC2E299#32
  | 101 => 0x400DF942#32
  | 102 => 0x40B4114A#32
  | 103 => 0x404BAF2B#32
  | 104 => 0xBF44C4BF#32
  | 105 => 0x400C2805#32
  | 106 => 0x3F38E88D#32
  | 107 => 0x3FCB4D7E#32
  | 108 => 0xBF0F884F#32
  | 109 => 0x3EABFE82#32
  | 110 => 0x3F191DA0#32
  | 111 => 0x3E2EE502#32
  | 112 => 0xBF9D41EA#32
  | 113 => 0x3F4FEB66#32
  | 114 => 0x3FA511D5#32
  | 115 => 0x3FA6FCFF#32
  | 116 => 0xBF79E56B#32
  | 117 => 0xBEDD87D7#32
  | 118 => 0x3FAA8614#32
  | 119 => 0x4021E263#32
  | 120 => 0xBF626139#32
  | 121 => 0xBF8A71DF#32
  | 122 => 0x3E8498F1#32
  | 123 => 0xBE218FB9#32
  | 124 => 0xBF0761F6#32
  | 125 => 0xBE13F65E#32
  | 126 => 0xBE7CD193#32
  | 127 => 0x3FFE6AF7#32
  | _ => 0#32

noncomputable abbrev lit0t0_209 (i : Nat) : BitVec 32 := match i % 128 with
  | 0 => 0x4093DBE3#32
  | 1 => 0x40088AA3#32
  | 2 => 0x3E557CDF#32
  | 3 => 0xBF367B74#32
  | 4 => 0x3F630431#32
  | 5 => 0xBE4E6D20#32
  | 6 => 0x3DB8A635#32
  | 7 => 0x3EC31254#32
  | 8 => 0xBE8D91F7#32
  | 9 => 0x3ED24A50#32
  | 10 => 0xBF3F50F1#32
  | 11 => 0x3F349E65#32
  | 12 => 0xBF567245#32
  | 13 => 0x3F3EFCAA#32
  | 14 => 0xBEF55E8B#32
  | 15 => 0xBF2A620B#32
  | 16 => 0xBF03AF9D#32
  | 17 => 0x3EDE2B37#32
  | 18 => 0x3F8244BA#32
  | 19 => 0x3DC846C8#32
  | 20 => 0x3C06DE37#32
  | 21 => 0x3DDACC21#32
  | 22 => 0xBFF2808E#32
  | 23 => 0xBEB7427A#32
  | 24 => 0x3FB5F259#32
  | 25 => 0xBF178F1B#32
  | 26 => 0xBE421262#32
  | 27 => 0x3FEF647A#32
  | 28 => 0x3EEFB8C1#32
  | 29 => 0x3E74B039#32
  | 30 => 0xBF1A1BB8#32
  | 31 => 0xBFD50F3A#32
  | 32 => 0x3DF508EF#32
  | 33 => 0x3FE72C1A#32
  | 34 => 0xBD962909#32
  | 35 => 0x3F059405#32
  | 36 => 0x4058E2D7#32
  | 37 => 0xBE9E890E#32
  | 38 => 0x3ED334C1#32
  | 39 => 0xBE954B5F#32
  | 40 => 0x3FEBD0E9#32
  | 41 => 0x3F311758#32
  | 42 => 0x3E85A787#32
  | 43 => 0xBFBD1F7E#32
  | 44 => 0xBF3C9F27#32
  | 45 => 0x3FA9E911#32
  | 46 => 0xBF1E2C16#32
  | 47 => 0xBF6871A0#32
  | 48 => 0xBEF4985E#32
  | 49 => 0x3F957B28#32
  | 50 => 0x3F1881D2#32
  | 51 => 0x3E6E8515#32
  | 52 => 0xBE95932D#32
  | 53 => 0x3F80515B#32
  | 54 => 0xBF87F2F4#32
  | 55 => 0x3F371687#32
  | 56 => 0xBE14365A#32
  | 57 => 0x3F5479B5#32
  | 58 => 0x3F6F4BB6#32
  | 59 => 0xBB4A85CF#32
  | 60 => 0x407B279A#32
  | 61 => 0x3F988250#32
  | 62 => 0x401232A3#32
  | 63 => 0x3F8F2CDA#32
  | 64 => 0x3F145A40#32
  | 65 => 0xBB930E66#32
  | 66 => 0xBF25971C#32
  | 67 => 0xBE432303#32
  | 68 => 0x3DE1FBA2#32
  | 69 => 0xBF0B856F#32
  | 70 => 0xBEA442C3#32
  | 71 => 0x401F7BEC#32
  | 72 => 0x3E6CCCA8#32
  | 73 => 0x3E04491C#32
  | 74 => 0x3CA88A92#32
  | 75 => 0x3FE45C06#32
  | 76 => 0x3EC06B04#32
  | 77 => 0x3E6EDC73#32
  | 78 => 0x3FF7D60C#32
  | 79 => 0xBF465120#32
  | 80 => 0x3FC69B04#32
  | 81 => 0xBDA17F73#32
  | 82 => 0xBF4856B0#32
  | 83 => 0xBED28780#32
  | 84 => 0x3E34F3A8#32
  | 85 => 0xBD0D6CB7#32
  | 86 => 0x3F0BB7CC#32
  | 87 => 0x3E86811C#32
  | 88 => 0x3EB42C3E#32
  | 89 => 0x4054BC2A#32
  | 90 => 0x3FA66926#32
  | 91 => 0x3F8CEB5A#32
  | 92 => 0xBF8B2F6B#32
  | 93 => 0xBF061D82#32
  | 94 => 0xBF43ED26#32
  | 95 => 0x40AC9F66#32
  | 96 => 0x3EB729DA#32
  | 97 => 0x3F8E1896#32
  | 98 => 0xBF07820C#32
  | 99 => 0x40478E59#32
  | 100 => 0xBF2102F6#32
  | 101 => 0x3F333E62#32
  | 102 => 0xBE727FFB#32
  | 103 => 0xBED90406#32
  | 104 => 0x3F6E4812#32
  | 105 => 0xBEE1839C#32
  | 106 => 0x40129804#32
  | 107 => 0x3F87E541#32
  | 108 => 0xBDD0D4F6#32
  | 109 => 0x3E37F688#32
  | 110 => 0xBF727654#32
  | 111 => 0x3E50DFCF#32
  | 112 => 0xBEE0A538#32
  | 113 => 0x3FD9E927#32
  | 114 => 0x3F4BE002#32
  | 115 => 0x3FE478AC#32
  | 116 => 0x3FE20475#32
  | 117 => 0x4044DF8F#32
  | 118 => 0x40117CBE#32
  | 119 => 0x3F365624#32
  | 120 => 0x401D3A25#32
  | 121 => 0xBF0B2578#32
  | 122 => 0xBE3DA410#32
  | 123 => 0xBF50520E#32
  | 124 => 0x3EE5253E#32
  | 125 => 0xBEDE1FF0#32
  | 126 => 0x3F9F01BC#32
  | 127 => 0xBF7CE856#32
  | _ => 0#32

noncomputable abbrev lit0t0_210 (i : Nat) : BitVec 32 := match i % 128 with
  | 0 => 0x3F3D0288#32
  | 1 => 0x3F9C2954#32
  | 2 => 0xBF83D844#32
  | 3 => 0x3F75C75A#32
  | 4 => 0xBEEB37CA#32
  | 5 => 0xBEBECD8B#32
  | 6 => 0xBF077F28#32
  | 7 => 0x40283CCE#32
  | 8 => 0xBEAFF145#32
  | 9 => 0x3E8195DE#32
  | 10 => 0xBEA7E1B4#32
  | 11 => 0x3FD1EF28#32
  | 12 => 0x3F86D815#32
  | 13 => 0x4003AD88#32
  | 14 => 0xBE221E2C#32
  | 15 => 0x3FE30782#32
  | 16 => 0x409431F7#32
  | 17 => 0xBE874E52#32
  | 18 => 0x3F519BB5#32
  | 19 => 0xBEB645EA#32
  | 20 => 0xBE331944#32
  | 21 => 0xBD506ECC#32
  | 22 => 0x3FADAA10#32
  | 23 => 0x3FD941FE#32
  | 24 => 0x3F84DB4A#32
  | 25 => 0xBF1C1B65#32
  | 26 => 0xBEE0C6E9#32
  | 27 => 0x400CC0BA#32
  | 28 => 0x4015AA2C#32
  | 29 => 0x409274D2#32
  | 30 => 0xBE3EB91E#32
  | 31 => 0xBFB052F7#32
  | 32 => 0x40161293#32
  | 33 => 0x400433F5#32
  | 34 => 0x3E6DFE6D#32
  | 35 => 0x3F2F8D84#32
  | 36 => 0x3FB70C7D#32
  | 37 => 0x3F3D1282#32
  | 38 => 0x3EAE1E28#32
  | 39 => 0xBF45C1A0#32
  | 40 => 0x3FA7C37A#32
  | 41 => 0x3FB77A65#32
  | 42 => 0x3FB6667A#32
  | 43 => 0x402ADEAD#32
  | 44 => 0xBB99FB3D#32
  | 45 => 0xBE379263#32
  | 46 => 0x3F9444A4#32
  | 47 => 0x3F8FFFA9#32
  | 48 => 0x3EDBB5BC#32
  | 49 => 0x3FAFF883#32
  | 50 => 0x3E8440F1#32
  | 51 => 0x3FF9D3FA#32
  | 52 => 0x3EE449B1#32
  | 53 => 0x4018D601#32
  | 54 => 0x3FAFCB20#32
  | 55 => 0xBE8A5DCE#32
  | 56 => 0x3F3153D4#32
  | 57 => 0x404C4C76#32
  | 58 => 0x3FAF0748#32
  | 59 => 0x3E92D599#32
  | 60 => 0x404561F2#32
  | 61 => 0xBF24FF9B#32
  | 62 => 0xBE2FDED4#32
  | 63 => 0x3F9A984E#32
  | 64 => 0xBF994984#32
  | 65 => 0xBF64D7E0#32
  | 66 => 0xBEFC94F8#32
  | 67 => 0xBEE7D19F#32
  | 68 => 0x3F8FDF5B#32
  | 69 => 0x406BC67D#32
  | 70 => 0x3ECA0AA0#32
  | 71 => 0x3E6A5EA2#32
  | 72 => 0x3FF19728#32
  | 73 => 0x3F21791E#32
  | 74 => 0xBE9DC2EA#32
  | 75 => 0xBF0488BE#32
  | 76 => 0x3E8E306C#32
  | 77 => 0x3D45D5F3#32
  | 78 => 0x3EB25A6F#32
  | 79 => 0x3F7078C8#32
  | 80 => 0x3E4EBE91#32
  | 81 => 0xBDBB1FD4#32
  | 82 => 0x3EA45167#32
  | 83 => 0x400AA5B9#32
  | 84 => 0xBFD6ACB2#32
  | 85 => 0xBFB13B9E#32
  | 86 => 0xBF6EBB85#32
  | 87 => 0xBE9F6684#32
  | 88 => 0x3F302AD2#32
  | 89 => 0x3FA3B0A6#32
  | 90 => 0xBEC90965#32
  | 91 => 0xBFD3C206#32
  | 92 => 0xBF4C877D#32
  | 93 => 0x4003F3B6#32
  | 94 => 0xBEF0FD46#32
  | 95 => 0x40036310#32
  | 96 => 0x3F38AC83#32
  | 97 => 0xBEED7956#32
  | 98 => 0x3FA92EAD#32
  | 99 => 0xBF4C757B#32
  | 100 => 0x3FFA0229#32
  | 101 => 0x3F7F9516#32
  | 102 => 0x3F27606D#32
  | 103 => 0xBF4B47A6#32
  | 104 => 0x3F0DF644#32
  | 105 => 0xBF46D9B8#32
  | 106 => 0x40AA68E8#32
  | 107 => 0x3FFB9868#32
  | 108 => 0x408AD96F#32
  | 109 => 0x3F6511FB#32
  | 110 => 0xBF261155#32
  | 111 => 0x3F3996D9#32
  | 112 => 0xBF2F492A#32
  | 113 => 0xBD31627B#32
  | 114 => 0x41057221#32
  | 115 => 0x3FC7EC70#32
  | 116 => 0x3F43E66B#32
  | 117 => 0xBF9739A3#32
  | 118 => 0x3EEE473A#32
  | 119 => 0x3F829071#32
  | 120 => 0xBF92F354#32
  | 121 => 0x3F401AA9#32
  | 122 => 0x3EE04389#32
  | 123 => 0x3F9339DC#32
  | 124 => 0x3F9FAB22#32
  | 125 => 0x3FCFFB21#32
  | 126 => 0x4023A808#32
  | 127 => 0xBEC7F8CD#32
  | _ => 0#32

noncomputable abbrev lit0t0_211 (i : Nat) : BitVec 32 := match i % 128 with
  | 0 => 0x406FE985#32
  | 1 => 0x3FB78335#32
  | 2 => 0x3E4AA3AE#32
  | 3 => 0xBF3F08E3#32
  | 4 => 0x3F5C694C#32
  | 5 => 0x3E8FED8A#32
  | 6 => 0x3D42A78A#32
  | 7 => 0x3DCBF4AC#32
  | 8 => 0x3F023AF4#32
  | 9 => 0x3D445EC3#32
  | 10 => 0xBF37245C#32
  | 11 => 0xBF03E3F9#32
  | 12 => 0x3EB39AB4#32
  | 13 => 0x40DC636B#32
  | 14 => 0x3FC05299#32
  | 15 => 0xBE309FB3#32
  | 16 => 0xBFB36D13#32
  | 17 => 0xBF6BE13A#32
  | 18 => 0xBF22D532#32
  | 19 => 0xBE898751#32
  | 20 => 0xBF0AC684#32
  | 21 => 0x4025AC64#32
  | 22 => 0xBED84273#32
  | 23 => 0x3FC067AC#32
  | 24 => 0xBF27398B#32
  | 25 => 0x3FD45698#32
  | 26 => 0xBE08D6F5#32
  | 27 => 0xBF12CE3C#32
  | 28 => 0x3FBFBD32#32
  | 29 => 0xBA0DE62B#32
  | 30 => 0x3DC055FB#32
  | 31 => 0x3F59355B#32
  | 32 => 0x400DA0FA#32
  | 33 => 0x40345189#32
  | 34 => 0xBEF90A48#32
  | 35 => 0x3FEFAF1C#32
  | 36 => 0x3F051000#32
  | 37 => 0x40232229#32
  | 38 => 0x3EE77A7F#32
  | 39 => 0xBE460898#32
  | 40 => 0x3F6B0714#32
  | 41 => 0x3FA6376C#32
  | 42 => 0x3FACA082#32
  | 43 => 0xBF08A8B9#32
  | 44 => 0xBF188DA7#32
  | 45 => 0x3DB28D65#32
  | 46 => 0xBF0A94F9#32
  | 47 => 0x3F4DBE51#32
  | 48 => 0x3FF8AA89#32
  | 49 => 0x3F2883B0#32
  | 50 => 0x3EDD825B#32
  | 51 => 0xBE11D877#32
  | 52 => 0x3E84E481#32
  | 53 => 0xBEB67376#32
  | 54 => 0xBEDA64A3#32
  | 55 => 0x3FE8D7A9#32
  | 56 => 0xBDB1813B#32
  | 57 => 0xBEE6D849#32
  | 58 => 0xBD4F64E4#32
  | 59 => 0x4014BEF6#32
  | 60 => 0x3F6D1353#32
  | 61 => 0xBFD8D43F#32
  | 62 => 0x3F0315F4#32
  | 63 => 0x3FD8736C#32
  | 64 => 0x3FF13BEC#32
  | 65 => 0x3FC968C2#32
  | 66 => 0x3F02279C#32
  | 67 => 0x4022EDE7#32
  | 68 => 0x3FB441C0#32
  | 69 => 0xBF9E0FE7#32
  | 70 => 0xBF37CD0B#32
  | 71 => 0xBE14563B#32
  | 72 => 0xBDB4A64B#32
  | 73 => 0xBEF85AA0#32
  | 74 => 0x3E7B697C#32
  | 75 => 0x3F0ABA60#32
  | 76 => 0x3FA8DD06#32
  | 77 => 0xBF0CB876#32
  | 78 => 0x3F12E3CC#32
  | 79 => 0x3FF0EB88#32
  | 80 => 0x3FCEFE25#32
  | 81 => 0x3FD5F195#32
  | 82 => 0x3E9C693A#32
  | 83 => 0xBDF3F070#32
  | 84 => 0x3FD92A7C#32
  | 85 => 0xBE05FCD1#32
  | 86 => 0x3F8448DA#32
  | 87 => 0x3E2673C6#32
  | 88 => 0x3E7D7010#32
  | 89 => 0xBE57A8EC#32
  | 90 => 0x3EB3D325#32
  | 91 => 0x3F601A65#32
  | 92 => 0x3F21BBB2#32
  | 93 => 0xBFBB6416#32
  | 94 => 0x40099EE6#32
  | 95 => 0xBF0646DA#32
  | 96 => 0x3FFE3477#32
  | 97 => 0x4085F497#32
  | 98 => 0xBE8057DB#32
  | 99 => 0x3F0F5856#32
  | 100 => 0x3FA59A6B#32
  | 101 => 0x3FE1FEC5#32
  | 102 => 0x3E194603#32
  | 103 => 0xBD01344B#32
  | 104 => 0xBF3BD5C7#32
  | 105 => 0x3FFD5061#32
  | 106 => 0x3FA908A1#32
  | 107 => 0xBF825FBC#32
  | 108 => 0xBF5DADE9#32
  | 109 => 0x3F3E773A#32
  | 110 => 0x3FB83FA0#32
  | 111 => 0xBEA528FA#32
  | 112 => 0xBE91C552#32
  | 113 => 0x408C78D9#32
  | 114 => 0x3FAE6191#32
  | 115 => 0xBF290F9A#32
  | 116 => 0x3F92F8D2#32
  | 117 => 0x3EC00242#32
  | 118 => 0xBE2D8959#32
  | 119 => 0x40168D3F#32
  | 120 => 0xBF853D38#32
  | 121 => 0x400D9686#32
  | 122 => 0x3E827A15#32
  | 123 => 0x3FEBA3B3#32
  | 124 => 0xBF348DAD#32
  | 125 => 0x3F85BB7E#32
  | 126 => 0x3EA68EED#32
  | 127 => 0x3F5E69AD#32
  | _ => 0#32

noncomputable abbrev lit0t0_212 (i : Nat) : BitVec 32 := match i % 128 with
  | 0 => 0x3F0589EA#32
  | 1 => 0x3F0BACB9#32
  | 2 => 0x3D8D8C49#32
  | 3 => 0x4063327E#32
  | 4 => 0x4021F5F5#32
  | 5 => 0x3EB1916C#32
  | 6 => 0x3FE4CAE2#32
  | 7 => 0xBFCACFE0#32
  | 8 => 0x3F69E24C#32
  | 9 => 0x4017F399#32
  | 10 => 0x3F9719FB#32
  | 11 => 0xBE233BE2#32
  | 12 => 0xBF1ACA06#32
  | 13 => 0x3F261AEF#32
  | 14 => 0xBF02A22C#32
  | 15 => 0x3F3F0247#32
  | 16 => 0xBF462AE4#32
  | 17 => 0x3F2460FF#32
  | 18 => 0xBF8A4D44#32
  | 19 => 0x3FA68864#32
  | 20 => 0xBF20B25E#32
  | 21 => 0x3FC9CF66#32
  | 22 => 0xBDADE9D8#32
  | 23 => 0xBDD7A0A3#32
  | 24 => 0x4011191C#32
  | 25 => 0x3E9B8E68#32
  | 26 => 0x3F835BFC#32
  | 27 => 0x3F2846D3#32
  | 28 => 0x403CDF4B#32
  | 29 => 0xBF3DBF68#32
  | 30 => 0xBEA81981#32
  | 31 => 0xBEF8FB6E#32
  | 32 => 0xC0012C2A#32
  | 33 => 0xBECF97D7#32
  | 34 => 0xBF8DC085#32
  | 35 => 0xBF1564A1#32
  | 36 => 0xBECCA956#32
  | 37 => 0x3F00E96D#32
  | 38 => 0xBF3C3F38#32
  | 39 => 0x3F51FFAE#32
  | 40 => 0x3FF8B72F#32
  | 41 => 0xBFA25992#32
  | 42 => 0xBFB1EECF#32
  | 43 => 0x3FB8630B#32
  | 44 => 0xBF2E1E67#32
  | 45 => 0xBE321BD0#32
  | 46 => 0xBF8E2262#32
  | 47 => 0x3DB8E3C5#32
  | 48 => 0x3FC5B5E9#32
  | 49 => 0x3F835B95#32
  | 50 => 0xBDEF7F7E#32
  | 51 => 0x3EE954E7#32
  | 52 => 0x3DF0CB4A#32
  | 53 => 0x3F25FB33#32
  | 54 => 0x3D557408#32
  | 55 => 0x3EBBAF1C#32
  | 56 => 0x3FAD1235#32
  | 57 => 0x3D1A033B#32
  | 58 => 0x3F0F5046#32
  | 59 => 0x3FA58673#32
  | 60 => 0xBF997CBE#32
  | 61 => 0x4036A86D#32
  | 62 => 0x3FBFC95D#32
  | 63 => 0x401609CF#32
  | 64 => 0x3D298F70#32
  | 65 => 0x3FEAE97A#32
  | 66 => 0x3F4E0E36#32
  | 67 => 0xBF485244#32
  | 68 => 0xBF2844B6#32
  | 69 => 0x3F4EC947#32
  | 70 => 0x3EB7C1CF#32
  | 71 => 0xBF0F89E0#32
  | 72 => 0xBEA07517#32
  | 73 => 0xBF06F772#32
  | 74 => 0x4057B0DB#32
  | 75 => 0xBEEA9D1E#32
  | 76 => 0x3CD16612#32
  | 77 => 0x3F0F3F85#32
  | 78 => 0x3F2D846F#32
  | 79 => 0x3F6DC0BD#32
  | 80 => 0xBF868976#32
  | 81 => 0xBEA63077#32
  | 82 => 0x3E901461#32
  | 83 => 0xBF22137C#32
  | 84 => 0xBF12BB7E#32
  | 85 => 0x3FFF58D0#32
  | 86 => 0x3EC0F8BD#32
  | 87 => 0xBF9F64FE#32
  | 88 => 0x3DAA3F01#32
  | 89 => 0xBE5FE216#32
  | 90 => 0x3EAE60D0#32
  | 91 => 0x3FA23716#32
  | 92 => 0xBDEE203E#32
  | 93 => 0x3F24DB80#32
  | 94 => 0x401A7446#32
  | 95 => 0xBF2D3CDF#32
  | 96 => 0xBEAB323A#32
  | 97 => 0xBED12E4F#32
  | 98 => 0xBF173CC3#32
  | 99 => 0xBF55E554#32
  | 100 => 0x3FD5105C#32
  | 101 => 0x3ED3C0AB#32
  | 102 => 0x3EA3632B#32
  | 103 => 0xBF2FDAE6#32
  | 104 => 0xBF40AB8F#32
  | 105 => 0xBFB2C3A7#32
  | 106 => 0x403D715C#32
  | 107 => 0xBF81E90F#32
  | 108 => 0x3F2C8308#32
  | 109 => 0x3E303D36#32
  | 110 => 0x3ECA9A4D#32
  | 111 => 0x3FA39D85#32
  | 112 => 0x3EDE1223#32
  | 113 => 0x3FCE7F1B#32
  | 114 => 0xBEE161CD#32
  | 115 => 0xBE148244#32
  | 116 => 0x3EFD8446#32
  | 117 => 0x3F94422C#32
  | 118 => 0xBD9E7A62#32
  | 119 => 0x3DB7FA6C#32
  | 120 => 0xBF80888C#32
  | 121 => 0x40033FDA#32
  | 122 => 0xBF82B2DA#32
  | 123 => 0xBF6B693C#32
  | 124 => 0x3F171104#32
  | 125 => 0x3F60D9BC#32
  | 126 => 0xBEA793D1#32
  | 127 => 0xBE1DEAAD#32
  | _ => 0#32

noncomputable abbrev lit0t0_213 (i : Nat) : BitVec 32 := match i % 128 with
  | 0 => 0x3EB84A1F#32
  | 1 => 0x4025DAA4#32
  | 2 => 0x3EEE31A4#32
  | 3 => 0x3FB0B186#32
  | 4 => 0xBE2D603A#32
  | 5 => 0x3E3E972E#32
  | 6 => 0x3FAF0A26#32
  | 7 => 0xBDAF3E69#32
  | 8 => 0xBE85336A#32
  | 9 => 0xBF9B2807#32
  | 10 => 0x40B2A6C4#32
  | 11 => 0x3FD47072#32
  | 12 => 0x3F74C804#32
  | 13 => 0x3FB2069F#32
  | 14 => 0xBF8559F4#32
  | 15 => 0xBDA3A7D0#32
  | 16 => 0xBF2B8CE1#32
  | 17 => 0xBF6CB99C#32
  | 18 => 0xBE02B294#32
  | 19 => 0x3F280FE9#32
  | 20 => 0x3FF50DDF#32
  | 21 => 0xBE881BB1#32
  | 22 => 0x40874248#32
  | 23 => 0x3FA96739#32
  | 24 => 0xBEF4F822#32
  | 25 => 0xBF51433A#32
  | 26 => 0xBF4ACFDA#32
  | 27 => 0x40690B3E#32
  | 28 => 0xBF10319F#32
  | 29 => 0x402AF0BA#32
  | 30 => 0xBF44F6EC#32
  | 31 => 0x4012EE9D#32
  | 32 => 0x3FFD9925#32
  | 33 => 0x3F8F22B9#32
  | 34 => 0x3F59EFFF#32
  | 35 => 0x3F0287BB#32
  | 36 => 0x3EF03D84#32
  | 37 => 0x3FB90223#32
  | 38 => 0xBEC40023#32
  | 39 => 0xBE6366D8#32
  | 40 => 0x3F10174E#32
  | 41 => 0x3FBCC0DA#32
  | 42 => 0xBEB678B3#32
  | 43 => 0x3F3D63F4#32
  | 44 => 0x3ED7D134#32
  | 45 => 0xBFAAAB62#32
  | 46 => 0x3DBE3712#32
  | 47 => 0xBDE60C0E#32
  | 48 => 0xBF491F32#32
  | 49 => 0x3FF7DFD6#32
  | 50 => 0x3F8C1D43#32
  | 51 => 0x3FD6E301#32
  | 52 => 0x3FBD219C#32
  | 53 => 0x4031985C#32
  | 54 => 0x3F0AFC77#32
  | 55 => 0x3F52F5AD#32
  | 56 => 0xBD714727#32
  | 57 => 0x401DB6F3#32
  | 58 => 0x3FC71DF6#32
  | 59 => 0xBEB3C164#32
  | 60 => 0x3E972430#32
  | 61 => 0xBE8CAEC0#32
  | 62 => 0x3FA387A0#32
  | 63 => 0x3FF2D01D#32
  | 64 => 0xBF1AB941#32
  | 65 => 0x3FC4B54A#32
  | 66 => 0x3F316BF6#32
  | 67 => 0xBFD67B55#32
  | 68 => 0xBDA96C1F#32
  | 69 => 0x3F9FE492#32
  | 70 => 0x3DC6B65E#32
  | 71 => 0xBEFB394A#32
  | 72 => 0x403AB7B9#32
  | 73 => 0x3E6D274E#32
  | 74 => 0x3FD01CE2#32
  | 75 => 0x3E1D5C4E#32
  | 76 => 0x401C2802#32
  | 77 => 0x3FEDC3C6#32
  | 78 => 0x3F1E8B86#32
  | 79 => 0x40942A47#32
  | 80 => 0xBF23A1B9#32
  | 81 => 0x3F3417DA#32
  | 82 => 0x3EC3A84D#32
  | 83 => 0x3F890B5D#32
  | 84 => 0x3F4BAD47#32
  | 85 => 0xBF036996#32
  | 86 => 0x3E65577E#32
  | 87 => 0xBDE8E07F#32
  | 88 => 0x3EBFA7AF#32
  | 89 => 0x3EEB2C16#32
  | 90 => 0x3DAF7797#32
  | 91 => 0x3FB6E0F6#32
  | 92 => 0xBF32F574#32
  | 93 => 0x3FA0659D#32
  | 94 => 0x3F99016A#32
  | 95 => 0x3DFF7525#32
  | 96 => 0x3F3FC2A8#32
  | 97 => 0x3D6EC706#32
  | 98 => 0xBF6815ED#32
  | 99 => 0xBF799B1A#32
  | 100 => 0x3E398158#32
  | 101 => 0xBF65F0A1#32
  | 102 => 0x3E93832B#32
  | 103 => 0xBE9DA761#32
  | 104 => 0xBEA98ABC#32
  | 105 => 0x3F85BC88#32
  | 106 => 0xBF0BE7B7#32
  | 107 => 0x3EE90EC4#32
  | 108 => 0x3DB80325#32
  | 109 => 0x3ED6FC10#32
  | 110 => 0x400B68EC#32
  | 111 => 0xBF382AE2#32
  | 112 => 0x3F6796B4#32
  | 113 => 0xBFEF3660#32
  | 114 => 0xBF1DFEE0#32
  | 115 => 0xBF6CF2CA#32
  | 116 => 0x40565829#32
  | 117 => 0xBF40E5F0#32
  | 118 => 0x3F8CFD9A#32
  | 119 => 0x40507E6D#32
  | 120 => 0x3E45F058#32
  | 121 => 0x3EC4DC44#32
  | 122 => 0xBC9391B0#32
  | 123 => 0xBE9FDFB2#32
  | 124 => 0x403D77DF#32
  | 125 => 0xBFB60D41#32
  | 126 => 0xBF0E93D5#32
  | 127 => 0xBD19F6BB#32
  | _ => 0#32

noncomputable abbrev lit0t0_214 (i : Nat) : BitVec 32 := match i % 128 with
  | 0 => 0xBF469958#32
  | 1 => 0x40319AED#32
  | 2 => 0x3F329D73#32
  | 3 => 0xBF8EA945#32
  | 4 => 0x3E75078B#32
  | 5 => 0x3D62A78D#32
  | 6 => 0x3F5928A4#32
  | 7 => 0x409BE957#32
  | 8 => 0xBF1344D0#32
  | 9 => 0xBE36AC0E#32
  | 10 => 0x40805B4E#32
  | 11 => 0x3FC37D1B#32
  | 12 => 0x3FF48E3F#32
  | 13 => 0x401367C2#32
  | 14 => 0x3F26938A#32
  | 15 => 0xBF53755E#32
  | 16 => 0xBE6A8160#32
  | 17 => 0x3F4EF3D9#32
  | 18 => 0xBF806E3E#32
  | 19 => 0xBE93E4A6#32
  | 20 => 0x3F895B8B#32
  | 21 => 0x400A0CB0#32
  | 22 => 0x3E221B53#32
  | 23 => 0x3ECF19A5#32
  | 24 => 0x3F80F9AA#32
  | 25 => 0xBF517AA8#32
  | 26 => 0x4054436D#32
  | 27 => 0xBF08D54E#32
  | 28 => 0xBF885946#32
  | 29 => 0x400AC320#32
  | 30 => 0x3FB3046E#32
  | 31 => 0x3E34ADFD#32
  | 32 => 0xBF87B506#32
  | 33 => 0xBF4EC7AF#32
  | 34 => 0xBF568F64#32
  | 35 => 0xBF64CB7F#32
  | 36 => 0x3F05B776#32
  | 37 => 0x3FCDB980#32
  | 38 => 0x3F6015DF#32
  | 39 => 0xBFD99715#32
  | 40 => 0x3F9A717B#32
  | 41 => 0xBF7FED01#32
  | 42 => 0xBE81B1CB#32
  | 43 => 0x3FC22F59#32
  | 44 => 0xBFEC6EED#32
  | 45 => 0xBFA4F211#32
  | 46 => 0xBF2A6493#32
  | 47 => 0x40A999D6#32
  | 48 => 0x3F76D7CE#32
  | 49 => 0x402BB961#32
  | 50 => 0xBEA34B4F#32
  | 51 => 0x401DD6C6#32
  | 52 => 0x3DF1C380#32
  | 53 => 0xBF7CA8DA#32
  | 54 => 0xBEF8505E#32
  | 55 => 0x3F6CE667#32
  | 56 => 0xBF8CB1C1#32
  | 57 => 0x3F19ED93#32
  | 58 => 0x3FA2C7BD#32
  | 59 => 0xBC53568F#32
  | 60 => 0xBF5E0C72#32
  | 61 => 0xBE692748#32
  | 62 => 0xBE59E5EB#32
  | 63 => 0x3FB91B52#32
  | 64 => 0xBE8623A1#32
  | 65 => 0x3F29EC93#32
  | 66 => 0xBE6E4A19#32
  | 67 => 0x3F885C5E#32
  | 68 => 0xBE3D1C17#32
  | 69 => 0x3F7A8A40#32
  | 70 => 0x3EAAEA7B#32
  | 71 => 0x3F70D4AE#32
  | 72 => 0xBF8C9417#32
  | 73 => 0x3FDB6D5D#32
  | 74 => 0xBF52E48C#32
  | 75 => 0xBED56C69#32
  | 76 => 0xBF8AA210#32
  | 77 => 0xBF40B194#32
  | 78 => 0x3EC3FD9F#32
  | 79 => 0xBF539148#32
  | 80 => 0x3FA0E5AF#32
  | 81 => 0x3D94D3FD#32
  | 82 => 0x3F524AF0#32
  | 83 => 0x3C13E6E3#32
  | 84 => 0xBCC0A31A#32
  | 85 => 0xBDE603D9#32
  | 86 => 0xBEA5FA23#32
  | 87 => 0x3ECEC1E5#32
  | 88 => 0xBF9912ED#32
  | 89 => 0x3F526B66#32
  | 90 => 0xBE743160#32
  | 91 => 0xBF532515#32
  | 92 => 0x3F66D5E1#32
  | 93 => 0x3F2ACF1B#32
  | 94 => 0xBEA678E8#32
  | 95 => 0x3FE6BE00#32
  | 96 => 0xBFD66DE6#32
  | 97 => 0xBE08F984#32
  | 98 => 0x3F743728#32
  | 99 => 0xBF5CE4A2#32
  | 100 => 0x3FD52504#32
  | 101 => 0x3DB249AE#32
  | 102 => 0xBECC8598#32
  | 103 => 0x3FDFFCBE#32
  | 104 => 0xBF00985F#32
  | 105 => 0x3EA9A135#32
  | 106 => 0x405E6CE9#32
  | 107 => 0x3F04FB2B#32
  | 108 => 0xBE52565B#32
  | 109 => 0x3E2FAEE6#32
  | 110 => 0x3F9A1E52#32
  | 111 => 0x3FEB3A0C#32
  | 112 => 0xBECB9473#32
  | 113 => 0x400B537A#32
  | 114 => 0xBEB77788#32
  | 115 => 0x3EB537B5#32
  | 116 => 0x4040015C#32
  | 117 => 0x3F24AAF1#32
  | 118 => 0xBF6E648D#32
  | 119 => 0x3FF6CC32#32
  | 120 => 0xBEF8550E#32
  | 121 => 0x3EDE7F66#32
  | 122 => 0x40C106AA#32
  | 123 => 0x3E35978B#32
  | 124 => 0xBEFB8FAE#32
  | 125 => 0x3F23D714#32
  | 126 => 0x3F696322#32
  | 127 => 0x3E8450E2#32
  | _ => 0#32

noncomputable abbrev lit0t0_215 (i : Nat) : BitVec 32 := match i % 128 with
  | 0 => 0xBE707E4A#32
  | 1 => 0x40089A4B#32
  | 2 => 0x3F871C4C#32
  | 3 => 0x3F9BDA30#32
  | 4 => 0xBF2D611F#32
  | 5 => 0x3F9FC6C0#32
  | 6 => 0xBED4AEE0#32
  | 7 => 0x3F5491E0#32
  | 8 => 0x408BA8CC#32
  | 9 => 0x4009CDF9#32
  | 10 => 0x3F680961#32
  | 11 => 0x3EEEDC52#32
  | 12 => 0x408CE2AA#32
  | 13 => 0x3F1344CF#32
  | 14 => 0x3EF9F312#32
  | 15 => 0x404CEEF6#32
  | 16 => 0x402AB4A1#32
  | 17 => 0x3F91222A#32
  | 18 => 0xBE19F47F#32
  | 19 => 0x3FDBA13B#32
  | 20 => 0xBEC594B2#32
  | 21 => 0x3F87BB06#32
  | 22 => 0xBECB45BE#32
  | 23 => 0x408A9372#32
  | 24 => 0xBEB22863#32
  | 25 => 0xBF6BD18A#32
  | 26 => 0xBF4C2CC6#32
  | 27 => 0x3FC5D02E#32
  | 28 => 0x3F80FFE0#32
  | 29 => 0x3FE4B942#32
  | 30 => 0x3FA2EAB3#32
  | 31 => 0x40239440#32
  | 32 => 0xBED73EE0#32
  | 33 => 0x3ACCB4E7#32
  | 34 => 0x3FDFA32C#32
  | 35 => 0x3F29513F#32
  | 36 => 0x3FE795CC#32
  | 37 => 0x3F4ADC07#32
  | 38 => 0xBE4720E3#32
  | 39 => 0xBEC6EB4B#32
  | 40 => 0xBF1E134D#32
  | 41 => 0x3FA7AD7A#32
  | 42 => 0xBF0CAB6D#32
  | 43 => 0x3D874C0C#32
  | 44 => 0x3E7CA883#32
  | 45 => 0x3EF0984A#32
  | 46 => 0x400FDD81#32
  | 47 => 0x3DAF3415#32
  | 48 => 0x3F470CEC#32
  | 49 => 0x3E1591DD#32
  | 50 => 0x40157A19#32
  | 51 => 0x4005B965#32
  | 52 => 0x3F78EC38#32
  | 53 => 0x3E67EAE9#32
  | 54 => 0xBF8111DE#32
  | 55 => 0x3FA9FE0B#32
  | 56 => 0xBF11C085#32
  | 57 => 0x3F07234C#32
  | 58 => 0x3F1C874D#32
  | 59 => 0xBF00C4C7#32
  | 60 => 0xBF96B27C#32
  | 61 => 0x3F90E1A2#32
  | 62 => 0xBFB2B9A5#32
  | 63 => 0xBF1FEFA2#32
  | 64 => 0xBE814007#32
  | 65 => 0xBDD9351D#32
  | 66 => 0x3F7AC15B#32
  | 67 => 0x4064E0AC#32
  | 68 => 0x40373074#32
  | 69 => 0x3FC591B8#32
  | 70 => 0xBF93A9F3#32
  | 71 => 0x3F8EAE95#32
  | 72 => 0x3FB7FEF8#32
  | 73 => 0xBEA719A0#32
  | 74 => 0x3FD8E688#32
  | 75 => 0x4004D7E8#32
  | 76 => 0x3FF0EB43#32
  | 77 => 0x3E999387#32
  | 78 => 0xBF59BB82#32
  | 79 => 0x3F8EA525#32
  | 80 => 0x3F5D3822#32
  | 81 => 0xBF1732C3#32
  | 82 => 0xBE1DA3E0#32
  | 83 => 0xBF4F6336#32
  | 84 => 0xBBF84E8B#32
  | 85 => 0xBF01ACA4#32
  | 86 => 0xBF5AE18E#32
  | 87 => 0xBF725160#32
  | 88 => 0x3F045831#32
  | 89 => 0x3D75E0E4#32
  | 90 => 0xBE9CFCF0#32
  | 91 => 0x3E3C3DBD#32
  | 92 => 0x40395B2C#32
  | 93 => 0xBDB7198A#32
  | 94 => 0x3E18E4FE#32
  | 95 => 0x3D0896D7#32
  | 96 => 0xBED28D20#32
  | 97 => 0x3FC2DA3F#32
  | 98 => 0x3DBBFB18#32
  | 99 => 0x3FC87C94#32
  | 100 => 0xBFAB619B#32
  | 101 => 0x3FA99C08#32
  | 102 => 0x3FEC729A#32
  | 103 => 0x3CDF41C7#32
  | 104 => 0x3FCE6880#32
  | 105 => 0x3F131381#32
  | 106 => 0x3CC7F801#32
  | 107 => 0xBE25F407#32
  | 108 => 0xBE207E20#32
  | 109 => 0xBFBC599E#32
  | 110 => 0xBF12B4CB#32
  | 111 => 0x3F9E4C99#32
  | 112 => 0x4071680B#32
  | 113 => 0xBED67489#32
  | 114 => 0x3F90185E#32
  | 115 => 0x3F9E7D83#32
  | 116 => 0xBF14431A#32
  | 117 => 0xBF055CCE#32
  | 118 => 0x3FD5177F#32
  | 119 => 0x3F1FA447#32
  | 120 => 0xBFCBCA86#32
  | 121 => 0x3F54707B#32
  | 122 => 0x3F8D1E0F#32
  | 123 => 0xBEE2EF93#32
  | 124 => 0x4085DDBB#32
  | 125 => 0x406D8859#32
  | 126 => 0x3FA18744#32
  | 127 => 0xBF8CB431#32
  | _ => 0#32

noncomputable abbrev lit0t0_216 (i : Nat) : BitVec 32 := match i % 128 with
  | 0 => 0x3F9BF74D#32
  | 1 => 0xBCF4617F#32
  | 2 => 0x40135919#32
  | 3 => 0xBED47C42#32
  | 4 => 0x3E002911#32
  | 5 => 0x3F89755C#32
  | 6 => 0x3F4ED3F4#32
  | 7 => 0x40316E92#32
  | 8 => 0x401A889D#32
  | 9 => 0x40528A0E#32
  | 10 => 0x3E41BD34#32
  | 11 => 0xBF02FD82#32
  | 12 => 0xBE7DA172#32
  | 13 => 0x3F522303#32
  | 14 => 0x3F739C0A#32
  | 15 => 0x3FC83BC9#32
  | 16 => 0x3F9CF90E#32
  | 17 => 0xBEEDD6AA#32
  | 18 => 0x3F9A5EA9#32
  | 19 => 0x3FC10B43#32
  | 20 => 0x3FF727E3#32
  | 21 => 0xBF64A510#32
  | 22 => 0x3FB2AEC2#32
  | 23 => 0xBF135122#32
  | 24 => 0x3F2AA7FD#32
  | 25 => 0xBE52094A#32
  | 26 => 0xBDB3AEF8#32
  | 27 => 0xBF4EC044#32
  | 28 => 0xBE9AA099#32
  | 29 => 0xBF904962#32
  | 30 => 0x405ED359#32
  | 31 => 0x3E259083#32
  | 32 => 0xBF2F772D#32
  | 33 => 0x3F2076FB#32
  | 34 => 0xBD080F2A#32
  | 35 => 0x403BF70B#32
  | 36 => 0x3F3DC8C1#32
  | 37 => 0x3E824A84#32
  | 38 => 0x40125D9A#32
  | 39 => 0x3FC86AC3#32
  | 40 => 0xBFAD01CB#32
  | 41 => 0x3FE0E9E8#32
  | 42 => 0xBF1EC3F3#32
  | 43 => 0x3F41391F#32
  | 44 => 0x40139702#32
  | 45 => 0xBEAFF44E#32
  | 46 => 0x3F42CDAA#32
  | 47 => 0x3FF88E9E#32
  | 48 => 0xBF291B67#32
  | 49 => 0xBEBCFEDB#32
  | 50 => 0xBF9FFACB#32
  | 51 => 0x3EA1C142#32
  | 52 => 0xBF2C567B#32
  | 53 => 0x40B9FC68#32
  | 54 => 0xBF1195FC#32
  | 55 => 0xBE01ADF8#32
  | 56 => 0x3DE435EE#32
  | 57 => 0xBF9B23B6#32
  | 58 => 0xBDB6DA70#32
  | 59 => 0x3D873A8E#32
  | 60 => 0x405BF40D#32
  | 61 => 0xBED8590D#32
  | 62 => 0x3F8B6588#32
  | 63 => 0x3F7CF832#32
  | 64 => 0x3F3406D0#32
  | 65 => 0xBF4B7D4E#32
  | 66 => 0x3F55C81D#32
  | 67 => 0x3F108C4E#32
  | 68 => 0x3FB05D92#32
  | 69 => 0x3FD013EA#32
  | 70 => 0xBDAF453D#32
  | 71 => 0xBF1EBB90#32
  | 72 => 0xBF151E43#32
  | 73 => 0x3F140F6C#32
  | 74 => 0xBECCCFD8#32
  | 75 => 0xBF7DF41A#32
  | 76 => 0x3DDD611A#32
  | 77 => 0xBE8F69CF#32
  | 78 => 0xBE86F382#32
  | 79 => 0xBE9CBAAC#32
  | 80 => 0xBEC699C6#32
  | 81 => 0x3E9303AB#32
  | 82 => 0xBE53BFF8#32
  | 83 => 0xBF1329A5#32
  | 84 => 0x3EDA656F#32
  | 85 => 0x40B016AC#32
  | 86 => 0xBF10F076#32
  | 87 => 0x3F50B4DC#32
  | 88 => 0x4000D34C#32
  | 89 => 0xBD2ADAF2#32
  | 90 => 0x3F386265#32
  | 91 => 0x3F5A549E#32
  | 92 => 0x3EA9EE7F#32
  | 93 => 0x3FAFF6FB#32
  | 94 => 0x40272660#32
  | 95 => 0x3FB10BE8#32
  | 96 => 0x3F64B7DC#32
  | 97 => 0xBF199C75#32
  | 98 => 0x3FD3330B#32
  | 99 => 0xBEE1EBDD#32
  | 100 => 0xBE293F28#32
  | 101 => 0x3DC91AC2#32
  | 102 => 0x3F1BF43F#32
  | 103 => 0xBF0051CA#32
  | 104 => 0xBF8B9263#32
  | 105 => 0x3F0FFCB6#32
  | 106 => 0xBEDFEF9D#32
  | 107 => 0x3FB2A0D6#32
  | 108 => 0xBF213D79#32
  | 109 => 0xBF8E6ECB#32
  | 110 => 0x3FD86A18#32
  | 111 => 0xBE72CACA#32
  | 112 => 0x3F53F302#32
  | 113 => 0x3ED9BFE4#32
  | 114 => 0x3DAAFDF4#32
  | 115 => 0x3F1B65B4#32
  | 116 => 0x3E9D33C9#32
  | 117 => 0xBDA6D007#32
  | 118 => 0x3F734DF4#32
  | 119 => 0xBE57DA69#32
  | 120 => 0xBE7D3FC7#32
  | 121 => 0xBFBC3652#32
  | 122 => 0x3E7A815C#32
  | 123 => 0xBDF05484#32
  | 124 => 0x3D9E8FD6#32
  | 125 => 0xBFB8B0E7#32
  | 126 => 0x3E5CFE9D#32
  | 127 => 0x40C97457#32
  | _ => 0#32

noncomputable abbrev lit0t0_217 (i : Nat) : BitVec 32 := match i % 128 with
  | 0 => 0x3F3FC396#32
  | 1 => 0xBF787573#32
  | 2 => 0x3F8EB478#32
  | 3 => 0x3F12C75A#32
  | 4 => 0xBD281D57#32
  | 5 => 0x3DEE28D5#32
  | 6 => 0xBF06BF4B#32
  | 7 => 0x3EF2A61F#32
  | 8 => 0xBF810E29#32
  | 9 => 0x3F862B92#32
  | 10 => 0xBEB97D42#32
  | 11 => 0xBF93388C#32
  | 12 => 0xBE85F234#32
  | 13 => 0x3E35D875#32
  | 14 => 0x3F49275B#32
  | 15 => 0x3F24D605#32
  | 16 => 0x40117971#32
  | 17 => 0x3FFE3703#32
  | 18 => 0x3EC4E1BF#32
  | 19 => 0x40689B6D#32
  | 20 => 0x3EC7DB9D#32
  | 21 => 0x3DA3F689#32
  | 22 => 0x3FA654FE#32
  | 23 => 0x3FAE31E7#32
  | 24 => 0x40090A06#32
  | 25 => 0x3F570659#32
  | 26 => 0x3F73AB94#32
  | 27 => 0x3EA46F58#32
  | 28 => 0xBDE4CF04#32
  | 29 => 0x3F52B4DA#32
  | 30 => 0xBEC22336#32
  | 31 => 0xBF45E696#32
  | 32 => 0x3F84F68D#32
  | 33 => 0xBED51C6A#32
  | 34 => 0xBFAAA0DE#32
  | 35 => 0x3E96479A#32
  | 36 => 0x40216B06#32
  | 37 => 0x3FFEB6A2#32
  | 38 => 0xBF6150A1#32
  | 39 => 0x3F75FF2E#32
  | 40 => 0xBEA06592#32
  | 41 => 0x3F3B3628#32
  | 42 => 0xBE79B970#32
  | 43 => 0x3FB5EBB2#32
  | 44 => 0x3E9D3BBC#32
  | 45 => 0xBEFF29AB#32
  | 46 => 0x40969245#32
  | 47 => 0xBD368251#32
  | 48 => 0x3F25168B#32
  | 49 => 0x3FC88E66#32
  | 50 => 0x3FD21A9B#32
  | 51 => 0x404C480D#32
  | 52 => 0xBE365699#32
  | 53 => 0x3FE96D01#32
  | 54 => 0xBF2879B6#32
  | 55 => 0x3F37BF3D#32
  | 56 => 0x4005E8EE#32
  | 57 => 0xBF35C4AB#32
  | 58 => 0xBF927A7A#32
  | 59 => 0x3F30A59C#32
  | 60 => 0xBF5FD30C#32
  | 61 => 0xBE8543B9#32
  | 62 => 0x3EE26720#32
  | 63 => 0xBF2A91E2#32
  | 64 => 0x3E79BCE4#32
  | 65 => 0xBF3AA8DC#32
  | 66 => 0xBECB63C5#32
  | 67 => 0x3FC5B2A6#32
  | 68 => 0x3E227D66#32
  | 69 => 0xBDE2D8AF#32
  | 70 => 0xBF2EFC86#32
  | 71 => 0x3E4ACC58#32
  | 72 => 0x3EE65922#32
  | 73 => 0xBD941EEA#32
  | 74 => 0x3F4701EA#32
  | 75 => 0x3DEFB0C5#32
  | 76 => 0x3F8D73B6#32
  | 77 => 0xBE86DB98#32
  | 78 => 0x3F5FCB2E#32
  | 79 => 0xBEDB9BFD#32
  | 80 => 0xBF708E62#32
  | 81 => 0x3F998FDC#32
  | 82 => 0x40483B25#32
  | 83 => 0x3F2B2B27#32
  | 84 => 0xBF28E9EA#32
  | 85 => 0x402804B2#32
  | 86 => 0x3F55EFCD#32
  | 87 => 0x4051BA97#32
  | 88 => 0xBF12D000#32
  | 89 => 0xBE06E8E2#32
  | 90 => 0xBDAACF1F#32
  | 91 => 0x3F96E225#32
  | 92 => 0x3DA9DE5D#32
  | 93 => 0x40522F8E#32
  | 94 => 0xBF8857CE#32
  | 95 => 0xBEE6AFBA#32
  | 96 => 0x3E9FDD59#32
  | 97 => 0x3D10B5C4#32
  | 98 => 0x3E3A35D5#32
  | 99 => 0x3F6400E4#32
  | 100 => 0xBFD4FDA0#32
  | 101 => 0xBDC7179F#32
  | 102 => 0xBF3D98B1#32
  | 103 => 0x3F0531FC#32
  | 104 => 0x3D337112#32
  | 105 => 0x40448F05#32
  | 106 => 0xBDCA206F#32
  | 107 => 0x4037F3EA#32
  | 108 => 0xBDF3D25E#32
  | 109 => 0x3DAAE7F1#32
  | 110 => 0x400D9B2E#32
  | 111 => 0xBF0F3446#32
  | 112 => 0xBD9610B2#32
  | 113 => 0xBF73D406#32
  | 114 => 0x4051A529#32
  | 115 => 0xBF366056#32
  | 116 => 0xBD517AA6#32
  | 117 => 0x3D461C12#32
  | 118 => 0x3EB501D0#32
  | 119 => 0x3FAB2FD3#32
  | 120 => 0x3EE56042#32
  | 121 => 0xBF8DCACC#32
  | 122 => 0x3F31F6E2#32
  | 123 => 0xBF95836E#32
  | 124 => 0x3EF9AF8B#32
  | 125 => 0x3F8185A1#32
  | 126 => 0x3FAE48DD#32
  | 127 => 0x3FAADD82#32
  | _ => 0#32

noncomputable abbrev lit0t0_218 (i : Nat) : BitVec 32 := match i % 128 with
  | 0 => 0xBF6D66E3#32
  | 1 => 0x3FF7B986#32
  | 2 => 0x3F70A708#32
  | 3 => 0xBF37395C#32
  | 4 => 0x403DA50B#32
  | 5 => 0x3DF5D42B#32
  | 6 => 0x3FEA44B8#32
  | 7 => 0x3F853951#32
  | 8 => 0xBECA5447#32
  | 9 => 0xBEB4A014#32
  | 10 => 0x3E57ADC6#32
  | 11 => 0xBF1E8B09#32
  | 12 => 0xBF4E038A#32
  | 13 => 0xBF25BC8A#32
  | 14 => 0x4000A32B#32
  | 15 => 0x3FA89A87#32
  | 16 => 0xBF85C11A#32
  | 17 => 0x3ED17978#32
  | 18 => 0xBF8179B0#32
  | 19 => 0x40225976#32
  | 20 => 0xBF2EC5DB#32
  | 21 => 0x3F98A658#32
  | 22 => 0x3FBFE2BF#32
  | 23 => 0x3F8C2B92#32
  | 24 => 0xBFB57912#32
  | 25 => 0x3F3D71DC#32
  | 26 => 0x3E5019D2#32
  | 27 => 0xBE1AACFD#32
  | 28 => 0x3FEC97F3#32
  | 29 => 0x3F4283CA#32
  | 30 => 0x3ECECD08#32
  | 31 => 0x3F2F20B0#32
  | 32 => 0xBF264835#32
  | 33 => 0x4076A5DA#32
  | 34 => 0x3F92F5AD#32
  | 35 => 0xBF9D35E7#32
  | 36 => 0x3EAC7F31#32
  | 37 => 0x3F9A9DA5#32
  | 38 => 0x3EF0CD69#32
  | 39 => 0x3E1C8F6D#32
  | 40 => 0x3F032C19#32
  | 41 => 0x3E7D2F69#32
  | 42 => 0x3DE27BC9#32
  | 43 => 0xBF4C5E0D#32
  | 44 => 0x3E7F9FE0#32
  | 45 => 0x3E28729A#32
  | 46 => 0x40900724#32
  | 47 => 0x3DE611C4#32
  | 48 => 0x3FFAE7AB#32
  | 49 => 0xBF0DFC63#32
  | 50 => 0x3FEEB5F0#32
  | 51 => 0x3FC7BAAA#32
  | 52 => 0x4020B39A#32
  | 53 => 0x3F259CB2#32
  | 54 => 0xBFD2710B#32
  | 55 => 0x3F843CC2#32
  | 56 => 0x405BD74B#32
  | 57 => 0x401087A9#32
  | 58 => 0x3FD85893#32
  | 59 => 0xBA21B33B#32
  | 60 => 0xBEFD0592#32
  | 61 => 0x3FACE71F#32
  | 62 => 0xBFD520DF#32
  | 63 => 0xBFB3644D#32
  | 64 => 0x40460D20#32
  | 65 => 0x3F6558B6#32
  | 66 => 0x401C1317#32
  | 67 => 0xBF86BA53#32
  | 68 => 0xBE3F9759#32
  | 69 => 0x3F583887#32
  | 70 => 0x3DFF0F4E#32
  | 71 => 0xBF941508#32
  | 72 => 0x3E8B2B2C#32
  | 73 => 0x3F269228#32
  | 74 => 0xBE929E87#32
  | 75 => 0x3F1AC8AD#32
  | 76 => 0xBF59C1EC#32
  | 77 => 0x3EB06922#32
  | 78 => 0x405A6463#32
  | 79 => 0x3F34562C#32
  | 80 => 0xBDC68F0C#32
  | 81 => 0x3FD2B44A#32
  | 82 => 0x3FACF1D5#32
  | 83 => 0x3FC2B94E#32
  | 84 => 0x3EF4EEB2#32
  | 85 => 0x3FBA036C#32
  | 86 => 0x3F2B148E#32
  | 87 => 0xBE04F9C2#32
  | 88 => 0x3D75D767#32
  | 89 => 0x3F16B94E#32
  | 90 => 0x3F17B0E0#32
  | 91 => 0xBE4DC4EA#32
  | 92 => 0xBD695D03#32
  | 93 => 0xBE6820CB#32
  | 94 => 0xBE8CB6C3#32
  | 95 => 0xBED39036#32
  | 96 => 0x3FE01650#32
  | 97 => 0xBEC0C60D#32
  | 98 => 0xBFA52917#32
  | 99 => 0x3F2FCED4#32
  | 100 => 0x40A07146#32
  | 101 => 0x3F41BFFE#32
  | 102 => 0xBF5200BA#32
  | 103 => 0x3EDB38E8#32
  | 104 => 0x3F1B3503#32
  | 105 => 0x3BACA93F#32
  | 106 => 0xBE78E2C4#32
  | 107 => 0xBF7DD11B#32
  | 108 => 0xBCB9836E#32
  | 109 => 0x40441696#32
  | 110 => 0xBDA6B82D#32
  | 111 => 0x3ED0A0CC#32
  | 112 => 0xBEC209E7#32
  | 113 => 0xBF8F4233#32
  | 114 => 0x3E8515B4#32
  | 115 => 0xBF4DFCC4#32
  | 116 => 0xBF4EE6B3#32
  | 117 => 0x3F485A17#32
  | 118 => 0xBF181AC9#32
  | 119 => 0x3FA08983#32
  | 120 => 0x3FA3656F#32
  | 121 => 0x3FF0780F#32
  | 122 => 0x3EA56CE4#32
  | 123 => 0x3F169E2A#32
  | 124 => 0x3F39E1F5#32
  | 125 => 0x3FFF3767#32
  | 126 => 0x3F460E2B#32
  | 127 => 0xBFD4FC2C#32
  | _ => 0#32

noncomputable abbrev lit0t0_219 (i : Nat) : BitVec 32 := match i % 128 with
  | 0 => 0xBF661F81#32
  | 1 => 0x3FE7C1D2#32
  | 2 => 0x4032D20A#32
  | 3 => 0x3FFFCE9F#32
  | 4 => 0xBFB5FECB#32
  | 5 => 0xBDA57904#32
  | 6 => 0x40324856#32
  | 7 => 0xBDF5DFA7#32
  | 8 => 0x3E6E089E#32
  | 9 => 0x3FA4B46D#32
  | 10 => 0x3ECCCC1E#32
  | 11 => 0x3F232DFD#32
  | 12 => 0xBF9C0446#32
  | 13 => 0x3F10163E#32
  | 14 => 0x3E11E7CE#32
  | 15 => 0x3CCB9129#32
  | 16 => 0xBF80E458#32
  | 17 => 0xBE887BAD#32
  | 18 => 0x400145EE#32
  | 19 => 0xBF98FF2D#32
  | 20 => 0x3F70BA93#32
  | 21 => 0x3F2F3FAC#32
  | 22 => 0x3E99E431#32
  | 23 => 0xBDDDE505#32
  | 24 => 0xBE861696#32
  | 25 => 0x3FC3AD76#32
  | 26 => 0x407DE07B#32
  | 27 => 0xBF37D998#32
  | 28 => 0xBF795C39#32
  | 29 => 0x3FDC2B3C#32
  | 30 => 0x3F3AE08D#32
  | 31 => 0x3F98DFB9#32
  | 32 => 0x3EC5419C#32
  | 33 => 0x3C8F37A1#32
  | 34 => 0xBE6ECE19#32
  | 35 => 0x3FC2EEC2#32
  | 36 => 0x3D13838C#32
  | 37 => 0xBF4CB74A#32
  | 38 => 0x400A397F#32
  | 39 => 0x40164A5D#32
  | 40 => 0xBEB98D81#32
  | 41 => 0x3EEB6662#32
  | 42 => 0x3F9D7AD4#32
  | 43 => 0xBF45EB60#32
  | 44 => 0x3FE5713C#32
  | 45 => 0xBDCFA5C9#32
  | 46 => 0x3FCB36D6#32
  | 47 => 0x3E23F863#32
  | 48 => 0x40538718#32
  | 49 => 0x3EF5EBC2#32
  | 50 => 0xBE91B9A6#32
  | 51 => 0xBD595C5B#32
  | 52 => 0x3F1E2A2C#32
  | 53 => 0x3EF76B4A#32
  | 54 => 0x3D09F5A8#32
  | 55 => 0xBFDB8878#32
  | 56 => 0xBD3B691B#32
  | 57 => 0x3F0A2F42#32
  | 58 => 0x3F907203#32
  | 59 => 0x3FA62048#32
  | 60 => 0x3F1DE5E9#32
  | 61 => 0x3E672024#32
  | 62 => 0x3F521385#32
  | 63 => 0xBDA277C2#32
  | 64 => 0x3FD4808C#32
  | 65 => 0xBEBC0126#32
  | 66 => 0xBE6A6806#32
  | 67 => 0x3F03F1F8#32
  | 68 => 0xBF2855B9#32
  | 69 => 0xBF8F59B2#32
  | 70 => 0xBED57A2B#32
  | 71 => 0x3FF5B19C#32
  | 72 => 0x3FAD0AD0#32
  | 73 => 0xBF0A1ECC#32
  | 74 => 0x3F7BEABE#32
  | 75 => 0x402D4873#32
  | 76 => 0xBF2B448F#32
  | 77 => 0x3ECC8E32#32
  | 78 => 0x3EE96172#32
  | 79 => 0x3EC396DE#32
  | 80 => 0x3FA0589A#32
  | 81 => 0xBEBE9CB3#32
  | 82 => 0x3F927E92#32
  | 83 => 0x3F0F63EA#32
  | 84 => 0x3F06FB0C#32
  | 85 => 0x40425A1E#32
  | 86 => 0xBEBEA5D7#32
  | 87 => 0x3F0568AD#32
  | 88 => 0x3F5F1A84#32
  | 89 => 0xBBB0C1BD#32
  | 90 => 0xBED41E38#32
  | 91 => 0x3F8C536E#32
  | 92 => 0x403BB2C8#32
  | 93 => 0xBC5F5A7B#32
  | 94 => 0x3E85C656#32
  | 95 => 0x3FE084EF#32
  | 96 => 0xBE8B2881#32
  | 97 => 0xBF0BFEA4#32
  | 98 => 0xBE9E3599#32
  | 99 => 0x402C0120#32
  | 100 => 0x406BC14E#32
  | 101 => 0xBFB8B529#32
  | 102 => 0xBF3CBE7D#32
  | 103 => 0x403482C5#32
  | 104 => 0x3FE94037#32
  | 105 => 0xBE417D4A#32
  | 106 => 0xBF8ED6BD#32
  | 107 => 0xBE9D99A5#32
  | 108 => 0xBE298C0B#32
  | 109 => 0xBF5D9A9E#32
  | 110 => 0x3F883A9F#32
  | 111 => 0x3EC2779B#32
  | 112 => 0x3F4AE417#32
  | 113 => 0x4081F893#32
  | 114 => 0x3FB9081E#32
  | 115 => 0xBF568B56#32
  | 116 => 0xBE84D40D#32
  | 117 => 0x40484A64#32
  | 118 => 0xBF16CF37#32
  | 119 => 0x3FE69768#32
  | 120 => 0x404197E0#32
  | 121 => 0x3E139BD7#32
  | 122 => 0xBF6D780A#32
  | 123 => 0xBF5CD09B#32
  | 124 => 0x3ECFED8B#32
  | 125 => 0x3FBCDB73#32
  | 126 => 0xBEC577CE#32
  | 127 => 0xBF962CF7#32
  | _ => 0#32

noncomputable abbrev lit0t0_220 (i : Nat) : BitVec 32 := match i % 128 with
  | 0 => 0xBA1035D8#32
  | 1 => 0x4035B439#32
  | 2 => 0x3E4EFF6F#32
  | 3 => 0xBF0D017A#32
  | 4 => 0x3C172ABA#32
  | 5 => 0x3F81DE9F#32
  | 6 => 0xBF959F7D#32
  | 7 => 0x3F8A7DAE#32
  | 8 => 0xBF595363#32
  | 9 => 0xBF3788B7#32
  | 10 => 0xBF934CB4#32
  | 11 => 0xBEA6C84F#32
  | 12 => 0x3D407B1A#32
  | 13 => 0x3EB8C2C5#32
  | 14 => 0xBF2EA4D7#32
  | 15 => 0x400ADE4A#32
  | 16 => 0xBDC36ADD#32
  | 17 => 0x3EE4CE65#32
  | 18 => 0xBFAA3532#32
  | 19 => 0xBED715B8#32
  | 20 => 0x3CF5CE74#32
  | 21 => 0x4095B895#32
  | 22 => 0x3DFDF11B#32
  | 23 => 0xBE639891#32
  | 24 => 0x3FD4BE9E#32
  | 25 => 0x3EF7AEB4#32
  | 26 => 0xBF438FB8#32
  | 27 => 0xBF524201#32
  | 28 => 0xBF87E1D6#32
  | 29 => 0x3F2611AF#32
  | 30 => 0x3F0A3A6B#32
  | 31 => 0xBE756492#32
  | 32 => 0xBED9F7B2#32
  | 33 => 0xBE01629A#32
  | 34 => 0x3F937870#32
  | 35 => 0x3F480030#32
  | 36 => 0xBD5F9230#32
  | 37 => 0x3FF20740#32
  | 38 => 0x3E57CE9F#32
  | 39 => 0xBE14F81F#32
  | 40 => 0x3DEAEAB0#32
  | 41 => 0xBF02718E#32
  | 42 => 0x3D0A9B26#32
  | 43 => 0x3F7AEDA5#32
  | 44 => 0x3FF4E7E6#32
  | 45 => 0x3F69CED6#32
  | 46 => 0x3F582749#32
  | 47 => 0x3F814390#32
  | 48 => 0x3FCE417D#32
  | 49 => 0xBF85EC4E#32
  | 50 => 0xBF9AA385#32
  | 51 => 0xBF2EEC5F#32
  | 52 => 0xBF6A4FCC#32
  | 53 => 0x3D475CC2#32
  | 54 => 0x3EDF599B#32
  | 55 => 0xBEC5A930#32
  | 56 => 0x3F555CEC#32
  | 57 => 0x3EF42E16#32
  | 58 => 0xBD41C624#32
  | 59 => 0x3E57F991#32
  | 60 => 0xBEA046B6#32
  | 61 => 0x3EF9DF6A#32
  | 62 => 0x40450354#32
  | 63 => 0xBEB7AFD0#32
  | 64 => 0xBE8E3A25#32
  | 65 => 0x3F8E25D7#32
  | 66 => 0xBEE99D6E#32
  | 67 => 0xBEC8AD84#32
  | 68 => 0xBEDA6C1B#32
  | 69 => 0xBDFAE688#32
  | 70 => 0xBEE61FF9#32
  | 71 => 0xBF3AB28B#32
  | 72 => 0x3F81E64E#32
  | 73 => 0xBDD18DF1#32
  | 74 => 0x3FB784F5#32
  | 75 => 0x40017F4E#32
  | 76 => 0x3ECF24D3#32
  | 77 => 0xBD90665E#32
  | 78 => 0x3F23447A#32
  | 79 => 0xBF46E799#32
  | 80 => 0xBE39B4B1#32
  | 81 => 0xBEB03FB6#32
  | 82 => 0x3FB6CEFC#32
  | 83 => 0xBDCFA9BD#32
  | 84 => 0x3F7716AE#32
  | 85 => 0x3F1C53AF#32
  | 86 => 0xBF170AD2#32
  | 87 => 0xBFA79B07#32
  | 88 => 0x3FB1E165#32
  | 89 => 0x3F4527C8#32
  | 90 => 0x3F6A7589#32
  | 91 => 0xBEE6573A#32
  | 92 => 0x40284008#32
  | 93 => 0x3DCDA283#32
  | 94 => 0x3F944C64#32
  | 95 => 0x403AE4B2#32
  | 96 => 0xBEEE63F7#32
  | 97 => 0x3EE2C132#32
  | 98 => 0xBE4B7FB9#32
  | 99 => 0xBF807F83#32
  | 100 => 0x3F1C70E2#32
  | 101 => 0x3D9443E9#32
  | 102 => 0x3F0F6E84#32
  | 103 => 0xBF9FA51B#32
  | 104 => 0x3F85C9BC#32
  | 105 => 0x4043D210#32
  | 106 => 0x3FDCB1A3#32
  | 107 => 0x402AF77A#32
  | 108 => 0x3E826F8B#32
  | 109 => 0x3EE17FB3#32
  | 110 => 0x4005A5D4#32
  | 111 => 0xBF0F970B#32
  | 112 => 0xBF59C565#32
  | 113 => 0x3F31369B#32
  | 114 => 0x3F6B38C2#32
  | 115 => 0x3E76C716#32
  | 116 => 0xBF1DCD87#32
  | 117 => 0x4065D788#32
  | 118 => 0x400F2DCA#32
  | 119 => 0xBDC41AF4#32
  | 120 => 0xBFA4339F#32
  | 121 => 0x3FC04055#32
  | 122 => 0xBE8FBE35#32
  | 123 => 0x3EB0D1A3#32
  | 124 => 0xBF742418#32
  | 125 => 0xBF3D7D65#32
  | 126 => 0x409909B6#32
  | 127 => 0x40107322#32
  | _ => 0#32

noncomputable abbrev lit0t0_221 (i : Nat) : BitVec 32 := match i % 128 with
  | 0 => 0x3E10775E#32
  | 1 => 0xBE033CD7#32
  | 2 => 0x3F7584A5#32
  | 3 => 0x3FF953D5#32
  | 4 => 0xBF899103#32
  | 5 => 0x3E4924CB#32
  | 6 => 0x4073F020#32
  | 7 => 0xBF968520#32
  | 8 => 0x3FC4E112#32
  | 9 => 0x40160BB1#32
  | 10 => 0x3F2FCBC5#32
  | 11 => 0x3E3012BB#32
  | 12 => 0x3E1A09F4#32
  | 13 => 0x3F555583#32
  | 14 => 0xBF3E3EF4#32
  | 15 => 0x3EA316A5#32
  | 16 => 0x3F0E2994#32
  | 17 => 0x40057620#32
  | 18 => 0xBE2A1674#32
  | 19 => 0x3FF70074#32
  | 20 => 0x3F233682#32
  | 21 => 0x3F17F33B#32
  | 22 => 0x3FAF5B47#32
  | 23 => 0xBF3FF437#32
  | 24 => 0xBCC8B90D#32
  | 25 => 0x3F270D7F#32
  | 26 => 0x3FFCB773#32
  | 27 => 0xBEC01937#32
  | 28 => 0x3F8B1243#32
  | 29 => 0xBF2FB9F9#32
  | 30 => 0x3EC1DA2E#32
  | 31 => 0xBDFE8248#32
  | 32 => 0xBE7DB0D0#32
  | 33 => 0x3EF2361B#32
  | 34 => 0x3EC828C1#32
  | 35 => 0x4094E3F6#32
  | 36 => 0x3F6A845D#32
  | 37 => 0x401AB92D#32
  | 38 => 0xBE53C15E#32
  | 39 => 0x3EA4F959#32
  | 40 => 0x40190610#32
  | 41 => 0x3F51C176#32
  | 42 => 0x3FB2FCEA#32
  | 43 => 0x3F9CF60E#32
  | 44 => 0xBF29D2BF#32
  | 45 => 0x3FFC9F3F#32
  | 46 => 0xBE813692#32
  | 47 => 0xBF804842#32
  | 48 => 0x3F10ADF5#32
  | 49 => 0x4047B858#32
  | 50 => 0x3EE7FBA4#32
  | 51 => 0xBF4F9521#32
  | 52 => 0xBE330CC0#32
  | 53 => 0x3E83F8BA#32
  | 54 => 0x3F36B421#32
  | 55 => 0xBF6F8DDE#32
  | 56 => 0xBFA70487#32
  | 57 => 0x4089F1E1#32
  | 58 => 0x40004DA5#32
  | 59 => 0x3F9166CB#32
  | 60 => 0x3F9536D9#32
  | 61 => 0x3F0F884A#32
  | 62 => 0x400811D0#32
  | 63 => 0x3DE1D0B6#32
  | 64 => 0x3FB8A434#32
  | 65 => 0x3F246F0C#32
  | 66 => 0xBF605D76#32
  | 67 => 0x3EDA13C9#32
  | 68 => 0x3EEE14A5#32
  | 69 => 0xBF7A45C4#32
  | 70 => 0x3FB47B50#32
  | 71 => 0x40033190#32
  | 72 => 0xBEF0571E#32
  | 73 => 0xBDEC3F78#32
  | 74 => 0xBF6DDFC3#32
  | 75 => 0xBF0C7A9D#32
  | 76 => 0xBF3B98D6#32
  | 77 => 0x3FA0B999#32
  | 78 => 0xBF91B550#32
  | 79 => 0x3FB6AD49#32
  | 80 => 0x3F8D5336#32
  | 81 => 0x3EED0616#32
  | 82 => 0x3FC379D2#32
  | 83 => 0xBE1909D9#32
  | 84 => 0x3FC5768F#32
  | 85 => 0x3EA83088#32
  | 86 => 0x3FA12166#32
  | 87 => 0x3F2CDA11#32
  | 88 => 0x3EBBD162#32
  | 89 => 0x3FF060E4#32
  | 90 => 0xBE7B9598#32
  | 91 => 0xBE0BA9BC#32
  | 92 => 0xBF99BEC5#32
  | 93 => 0xBF11323F#32
  | 94 => 0x3F74DF18#32
  | 95 => 0xBF6F1CA4#32
  | 96 => 0xBFDC6DF2#32
  | 97 => 0xBEE330D4#32
  | 98 => 0xBF038D2B#32
  | 99 => 0x3F3782BC#32
  | 100 => 0xBF697C89#32
  | 101 => 0x3F3C47BB#32
  | 102 => 0x39A876ED#32
  | 103 => 0x3BD8B70E#32
  | 104 => 0x400600DA#32
  | 105 => 0x3F880FCE#32
  | 106 => 0x3FBE1AFF#32
  | 107 => 0xBDA61B28#32
  | 108 => 0x3F60B19A#32
  | 109 => 0x3FF2AED2#32
  | 110 => 0x4008A42A#32
  | 111 => 0xBF26059A#32
  | 112 => 0x4058ADC4#32
  | 113 => 0xBF02D268#32
  | 114 => 0xBF2ED5B6#32
  | 115 => 0x400B5AD9#32
  | 116 => 0x3CFD93AB#32
  | 117 => 0x3F10340A#32
  | 118 => 0xBF650F46#32
  | 119 => 0x407425F0#32
  | 120 => 0x3FD0C0B6#32
  | 121 => 0xBE83E69D#32
  | 122 => 0x3FEB320C#32
  | 123 => 0x3DB83861#32
  | 124 => 0x3F533D02#32
  | 125 => 0x3F020A64#32
  | 126 => 0xBEDE3048#32
  | 127 => 0xBF1AF8FF#32
  | _ => 0#32

noncomputable abbrev lit0t0_222 (i : Nat) : BitVec 32 := match i % 128 with
  | 0 => 0xBF2589B1#32
  | 1 => 0xBF6D36D4#32
  | 2 => 0xBF328605#32
  | 3 => 0xBF6710BD#32
  | 4 => 0x3E9D4D76#32
  | 5 => 0xBECE10AF#32
  | 6 => 0xBF3B32B8#32
  | 7 => 0x4066CEAA#32
  | 8 => 0xBE041D97#32
  | 9 => 0x3E8A624C#32
  | 10 => 0x40442A02#32
  | 11 => 0x3EBB0974#32
  | 12 => 0xBF8E1634#32
  | 13 => 0x3F5904A4#32
  | 14 => 0x3F9A9763#32
  | 15 => 0x400A6E88#32
  | 16 => 0xBF0E22D0#32
  | 17 => 0x40795EF7#32
  | 18 => 0xBF199BC5#32
  | 19 => 0xBF4FC89B#32
  | 20 => 0x3F28D18E#32
  | 21 => 0xBEF7B900#32
  | 22 => 0xBE9A401E#32
  | 23 => 0x3FEC18FE#32
  | 24 => 0x3F1BCA30#32
  | 25 => 0x3F861A0B#32
  | 26 => 0xBF2347A9#32
  | 27 => 0xBEFD2C14#32
  | 28 => 0x3F8812F4#32
  | 29 => 0x3E8D34D3#32
  | 30 => 0x3DB0BB05#32
  | 31 => 0xBF2A1C7B#32
  | 32 => 0x3EB0200D#32
  | 33 => 0xBF4676F0#32
  | 34 => 0xBF317F38#32
  | 35 => 0xBF68807A#32
  | 36 => 0x3EB9EA3E#32
  | 37 => 0xBF435880#32
  | 38 => 0x3FD92964#32
  | 39 => 0xBE6733E1#32
  | 40 => 0xBE1FBCDD#32
  | 41 => 0x3F5C5D07#32
  | 42 => 0x3E39CCE7#32
  | 43 => 0x405FAD0B#32
  | 44 => 0xBDE1BD84#32
  | 45 => 0x3E949541#32
  | 46 => 0xBF0FF536#32
  | 47 => 0x3FAF9A55#32
  | 48 => 0x3FD82EAF#32
  | 49 => 0x3F1FBBBF#32
  | 50 => 0x3F4B3B91#32
  | 51 => 0x403E8729#32
  | 52 => 0xBFC591D0#32
  | 53 => 0xBDD4C2F6#32
  | 54 => 0xBF1AB108#32
  | 55 => 0xBF3FCFF2#32
  | 56 => 0x3FF1074B#32
  | 57 => 0x3F6F51D1#32
  | 58 => 0x3E8B5A88#32
  | 59 => 0xBF5E477D#32
  | 60 => 0xBF9EA0AC#32
  | 61 => 0xBEE52FE2#32
  | 62 => 0xBDFD164E#32
  | 63 => 0xBF660EC6#32
  | 64 => 0x400ED0A2#32
  | 65 => 0xBF76DAA5#32
  | 66 => 0xBFCEDC44#32
  | 67 => 0x3DD478BB#32
  | 68 => 0x400C27B5#32
  | 69 => 0x3E565290#32
  | 70 => 0x3F198A7B#32
  | 71 => 0xBF32383D#32
  | 72 => 0xBF4DD5DA#32
  | 73 => 0x3FBFDA64#32
  | 74 => 0x3F24F9A9#32
  | 75 => 0x3F6D7C4F#32
  | 76 => 0x3F81F8E0#32
  | 77 => 0xBF8B698E#32
  | 78 => 0x400D0BDC#32
  | 79 => 0xBE9C8F52#32
  | 80 => 0xBE8405A8#32
  | 81 => 0xBF2F601F#32
  | 82 => 0x3F4AAC18#32
  | 83 => 0x3DCF78E5#32
  | 84 => 0x408B8166#32
  | 85 => 0xBE5B9453#32
  | 86 => 0xBEB7D597#32
  | 87 => 0x405701DB#32
  | 88 => 0x3E353FC6#32
  | 89 => 0x3FB5BB9F#32
  | 90 => 0xBF3AE492#32
  | 91 => 0x4026CFB7#32
  | 92 => 0x3F4E1534#32
  | 93 => 0x3F463E7A#32
  | 94 => 0xBEBED6A6#32
  | 95 => 0xBC905B39#32
  | 96 => 0xBF036C98#32
  | 97 => 0x3F6516FC#32
  | 98 => 0x3E96A8C9#32
  | 99 => 0xBF381162#32
  | 100 => 0x3F9B003E#32
  | 101 => 0x3CF74BC2#32
  | 102 => 0xBEAB4400#32
  | 103 => 0xBF898862#32
  | 104 => 0x3F0059EB#32
  | 105 => 0xBF63EE0C#32
  | 106 => 0xBF48DE64#32
  | 107 => 0x403AE6D7#32
  | 108 => 0x40065974#32
  | 109 => 0xBF9D9038#32
  | 110 => 0xBE040009#32
  | 111 => 0x3F154576#32
  | 112 => 0xBC943F85#32
  | 113 => 0xBE880325#32
  | 114 => 0x3EABED88#32
  | 115 => 0xBF256200#32
  | 116 => 0xBF87B0EB#32
  | 117 => 0xBF637682#32
  | 118 => 0x3EA8B7DD#32
  | 119 => 0x3FCAA4E7#32
  | 120 => 0x3F9ED101#32
  | 121 => 0x3F3FCFA0#32
  | 122 => 0x3F5003C3#32
  | 123 => 0x3EED0043#32
  | 124 => 0x3E2592D8#32
  | 125 => 0x3F5B3D30#32
  | 126 => 0x402818EB#32
  | 127 => 0x3FA8BF63#32
  | _ => 0#32

noncomputable abbrev lit0t0_223 (i : Nat) : BitVec 32 := match i % 128 with
  | 0 => 0xBEF89A94#32
  | 1 => 0xBEFAF510#32
  | 2 => 0x3F207801#32
  | 3 => 0x400B977A#32
  | 4 => 0x400A733D#32
  | 5 => 0x3EFA333A#32
  | 6 => 0xBF0B49BA#32
  | 7 => 0x3F8C9605#32
  | 8 => 0x3F990E8E#32
  | 9 => 0x4021A12C#32
  | 10 => 0xBEAB82C6#32
  | 11 => 0x3FDA7AFE#32
  | 12 => 0xBF31944C#32
  | 13 => 0xBF0E90A0#32
  | 14 => 0x401F3CC1#32
  | 15 => 0xBD4EC345#32
  | 16 => 0x40B87FB2#32
  | 17 => 0x4036C27C#32
  | 18 => 0xBD630B68#32
  | 19 => 0x3F68EB2A#32
  | 20 => 0x4001F337#32
  | 21 => 0x3E2CFF27#32
  | 22 => 0x3FA4709D#32
  | 23 => 0x3F3EC329#32
  | 24 => 0xBBFF6B7F#32
  | 25 => 0x3FC0420B#32
  | 26 => 0x400461BE#32
  | 27 => 0x3E24689A#32
  | 28 => 0xBE74972E#32
  | 29 => 0xBF9F093E#32
  | 30 => 0x3F28B6B4#32
  | 31 => 0xBE32EEDD#32
  | 32 => 0xBF3566F2#32
  | 33 => 0xBFB41587#32
  | 34 => 0xBEB149F8#32
  | 35 => 0x3FB99C60#32
  | 36 => 0x3F69CA09#32
  | 37 => 0x3F44B17E#32
  | 38 => 0x3F8619E3#32
  | 39 => 0x3FDB66E5#32
  | 40 => 0xBCB216D5#32
  | 41 => 0xBEC3E318#32
  | 42 => 0x3E5DC3F3#32
  | 43 => 0xBE2235AC#32
  | 44 => 0x3F88497A#32
  | 45 => 0x3FE31F3E#32
  | 46 => 0x4052C23C#32
  | 47 => 0x4002BF71#32
  | 48 => 0x3FA1E44D#32
  | 49 => 0x3F7E34CC#32
  | 50 => 0xBE36A50B#32
  | 51 => 0xBF014E0D#32
  | 52 => 0x3EEC9640#32
  | 53 => 0xBD1355AF#32
  | 54 => 0x3EE9245C#32
  | 55 => 0xBFA734F9#32
  | 56 => 0x3FCE696E#32
  | 57 => 0x40542C8D#32
  | 58 => 0x400ADE94#32
  | 59 => 0x3F6635AF#32
  | 60 => 0x3EEE5DAA#32
  | 61 => 0xBF584B9E#32
  | 62 => 0x3DA57319#32
  | 63 => 0xBEE4011A#32
  | 64 => 0x403A0E76#32
  | 65 => 0x401865E2#32
  | 66 => 0x3F619C92#32
  | 67 => 0x3E59FDAF#32
  | 68 => 0x3F8F1E88#32
  | 69 => 0xBF0ADFA6#32
  | 70 => 0x3F1D74BD#32
  | 71 => 0xBF1125D2#32
  | 72 => 0x3D705D6D#32
  | 73 => 0x3E8E72E9#32
  | 74 => 0xBDA3A341#32
  | 75 => 0x3F350BD6#32
  | 76 => 0xBFC3F3A1#32
  | 77 => 0xBC1FF27A#32
  | 78 => 0x3F837E1C#32
  | 79 => 0x3DA11F89#32
  | 80 => 0x3FD68346#32
  | 81 => 0xBEE87CDE#32
  | 82 => 0xBF60F258#32
  | 83 => 0x3FFF4B07#32
  | 84 => 0x4056F595#32
  | 85 => 0x3FBA6148#32
  | 86 => 0xBF12F690#32
  | 87 => 0x4067FF21#32
  | 88 => 0xBD82CCF2#32
  | 89 => 0x401721F7#32
  | 90 => 0xBF9297D4#32
  | 91 => 0xBF916E01#32
  | 92 => 0x3E907268#32
  | 93 => 0xBFC4E169#32
  | 94 => 0xBEEFE4D7#32
  | 95 => 0x3D0728A5#32
  | 96 => 0xBF8EAD28#32
  | 97 => 0xBF33879D#32
  | 98 => 0x3D347435#32
  | 99 => 0xBE65F687#32
  | 100 => 0xBE38F887#32
  | 101 => 0x3E9A892E#32
  | 102 => 0x3D635D9E#32
  | 103 => 0x3FC9D078#32
  | 104 => 0xBF865785#32
  | 105 => 0xBF8D6C9C#32
  | 106 => 0x3F1513BE#32
  | 107 => 0xBED10327#32
  | 108 => 0xBF621286#32
  | 109 => 0x3EB9CC6F#32
  | 110 => 0x3F6F9FA2#32
  | 111 => 0x3FCFCCFA#32
  | 112 => 0x3D808DB1#32
  | 113 => 0x403B48B9#32
  | 114 => 0x3F3D1A6C#32
  | 115 => 0x3EB35157#32
  | 116 => 0x3F2E956C#32
  | 117 => 0xBFAF2C98#32
  | 118 => 0xBF0C1C32#32
  | 119 => 0x3EA08495#32
  | 120 => 0x3FBB662A#32
  | 121 => 0xBEDB9D8F#32
  | 122 => 0xBEA5647E#32
  | 123 => 0xBEB11867#32
  | 124 => 0xBE5FD19C#32
  | 125 => 0xBF157813#32
  | 126 => 0xBF1D3E5D#32
  | 127 => 0x3EB3176C#32
  | _ => 0#32

noncomputable abbrev lit0t0_224 (i : Nat) : BitVec 32 := match i % 128 with
  | 0 => 0xBE5BC464#32
  | 1 => 0x401E7C36#32
  | 2 => 0xBF015DB4#32
  | 3 => 0x3FDB7D99#32
  | 4 => 0xBE0627B1#32
  | 5 => 0xBE5210F3#32
  | 6 => 0x3F830C18#32
  | 7 => 0xBEC285D7#32
  | 8 => 0xBE838CBC#32
  | 9 => 0x3E32A263#32
  | 10 => 0x3F953AC4#32
  | 11 => 0x3F513706#32
  | 12 => 0x3F1B3218#32
  | 13 => 0x3EB9C3D5#32
  | 14 => 0x3EBED7A1#32
  | 15 => 0x3E4B0085#32
  | 16 => 0x3F642B06#32
  | 17 => 0x4037BACB#32
  | 18 => 0xBF02459F#32
  | 19 => 0x3FF8B1D6#32
  | 20 => 0x3FCFEB55#32
  | 21 => 0x3F044CA2#32
  | 22 => 0x4001C4F4#32
  | 23 => 0x3FB1E615#32
  | 24 => 0x3D064DAF#32
  | 25 => 0x3F7E59BC#32
  | 26 => 0x4072D62C#32
  | 27 => 0xBF7480B1#32
  | 28 => 0x40565932#32
  | 29 => 0xBFA917CE#32
  | 30 => 0xBF28A28B#32
  | 31 => 0xBF44D516#32
  | 32 => 0x4041478C#32
  | 33 => 0x402B92BE#32
  | 34 => 0xBE0ABA5E#32
  | 35 => 0xBF1E4192#32
  | 36 => 0x3E8C4CF3#32
  | 37 => 0xBEB7ED72#32
  | 38 => 0xBFB9FB40#32
  | 39 => 0x3E109CEC#32
  | 40 => 0x3F8C68F4#32
  | 41 => 0xBF424AF4#32
  | 42 => 0x3F9D5A32#32
  | 43 => 0x3F0BF567#32
  | 44 => 0x40C4DAF8#32
  | 45 => 0x3FC9EC88#32
  | 46 => 0x3D234A58#32
  | 47 => 0xBF1BB621#32
  | 48 => 0x3F53C01F#32
  | 49 => 0xBF47C599#32
  | 50 => 0x3F99DD4F#32
  | 51 => 0x3F6B9B2C#32
  | 52 => 0x3F804D64#32
  | 53 => 0x3EC15479#32
  | 54 => 0x3CD2086D#32
  | 55 => 0x3FEE93EB#32
  | 56 => 0x40942D9E#32
  | 57 => 0x3E00FCE8#32
  | 58 => 0x3F03064F#32
  | 59 => 0x3FB6C83C#32
  | 60 => 0x40556898#32
  | 61 => 0x3E3A8F35#32
  | 62 => 0x3F57420C#32
  | 63 => 0xBF01C97A#32
  | 64 => 0x3D22AD9A#32
  | 65 => 0x3FE35BE8#32
  | 66 => 0x3FEC6100#32
  | 67 => 0x3FB23CAB#32
  | 68 => 0x3DEA6F67#32
  | 69 => 0x4012CFA3#32
  | 70 => 0x3FF35A8E#32
  | 71 => 0x3EE2092F#32
  | 72 => 0x3EB49504#32
  | 73 => 0x3E2DB8F7#32
  | 74 => 0x3E5F01D4#32
  | 75 => 0x3F2E9B10#32
  | 76 => 0x3FA71D9F#32
  | 77 => 0x3FC82056#32
  | 78 => 0xBF3F049F#32
  | 79 => 0x3D805765#32
  | 80 => 0x3D303AB1#32
  | 81 => 0x4084113B#32
  | 82 => 0xBF817811#32
  | 83 => 0xBEB1F4D1#32
  | 84 => 0x3F3FA310#32
  | 85 => 0x3E8D81ED#32
  | 86 => 0xBCB82D7B#32
  | 87 => 0xBEF56C5C#32
  | 88 => 0x3FF3C415#32
  | 89 => 0x408BC77C#32
  | 90 => 0x3F1D7792#32
  | 91 => 0xBF05B642#32
  | 92 => 0x3FCCFA83#32
  | 93 => 0x3FABD5F9#32
  | 94 => 0x4078BDF2#32
  | 95 => 0x3EA1E8FC#32
  | 96 => 0x3CF89DB6#32
  | 97 => 0xBFC8696C#32
  | 98 => 0x3F48F5DB#32
  | 99 => 0x3F5BAF46#32
  | 100 => 0x3E145A63#32
  | 101 => 0xBDCE40A3#32
  | 102 => 0x3FB0B1D3#32
  | 103 => 0x40235515#32
  | 104 => 0xBD905431#32
  | 105 => 0xBE7CCD72#32
  | 106 => 0x3F7556FC#32
  | 107 => 0xBDED529E#32
  | 108 => 0xBD7876B3#32
  | 109 => 0xBDF1F5DD#32
  | 110 => 0x3FA14393#32
  | 111 => 0x40462866#32
  | 112 => 0x3E2AA1A3#32
  | 113 => 0x3F740EA6#32
  | 114 => 0xBDFAC865#32
  | 115 => 0x3FB71D9A#32
  | 116 => 0x3F0FEFAB#32
  | 117 => 0x3F9F87C6#32
  | 118 => 0x403C6F6E#32
  | 119 => 0x3FBFB34C#32
  | 120 => 0x3F9E77C9#32
  | 121 => 0x3F783172#32
  | 122 => 0x40AF65D3#32
  | 123 => 0xBEBB4134#32
  | 124 => 0x400E1385#32
  | 125 => 0x3F688146#32
  | 126 => 0xBE27C9B0#32
  | 127 => 0x3F07DF53#32
  | _ => 0#32

noncomputable abbrev lit0t0_225 (i : Nat) : BitVec 32 := match i % 128 with
  | 0 => 0x3FFF43DC#32
  | 1 => 0xBF20CBBB#32
  | 2 => 0xBF3E4C37#32
  | 3 => 0xBEB70AE8#32
  | 4 => 0x3E6742EC#32
  | 5 => 0x3F41F6BE#32
  | 6 => 0x3E947CC1#32
  | 7 => 0xBF0125B6#32
  | 8 => 0xBE55AD3D#32
  | 9 => 0xBE85FC29#32
  | 10 => 0xBF2B7028#32
  | 11 => 0x3FE62C00#32
  | 12 => 0xBD7FE415#32
  | 13 => 0x3FFA2371#32
  | 14 => 0x3F4833EE#32
  | 15 => 0xBEBD3F04#32
  | 16 => 0x40139901#32
  | 17 => 0x4053A19E#32
  | 18 => 0xBEF36F51#32
  | 19 => 0xBF06CB75#32
  | 20 => 0x3EB8246A#32
  | 21 => 0x3F4503F0#32
  | 22 => 0x3F92BCDC#32
  | 23 => 0x3F39EF87#32
  | 24 => 0x3DDE43AC#32
  | 25 => 0xBF53367C#32
  | 26 => 0xBEB7BF12#32
  | 27 => 0x3F8F7D70#32
  | 28 => 0x3F99C27F#32
  | 29 => 0xBEFE632C#32
  | 30 => 0xBCDA8535#32
  | 31 => 0xBF052DB7#32
  | 32 => 0x3FA66A08#32
  | 33 => 0x3E519B83#32
  | 34 => 0xBF0EA073#32
  | 35 => 0x3F624663#32
  | 36 => 0x3F91DE04#32
  | 37 => 0x40335D51#32
  | 38 => 0x3F5E34FC#32
  | 39 => 0x3F625CC5#32
  | 40 => 0x3F0DAE24#32
  | 41 => 0xBEAF8A05#32
  | 42 => 0x3EB4F2E8#32
  | 43 => 0x4066003A#32
  | 44 => 0xBEE3FE7A#32
  | 45 => 0xBFC79572#32
  | 46 => 0xB9A0F9AC#32
  | 47 => 0x40806F26#32
  | 48 => 0xBFBE862C#32
  | 49 => 0x3F7A7AC7#32
  | 50 => 0x3F1AA1E3#32
  | 51 => 0xBF14108D#32
  | 52 => 0x40882150#32
  | 53 => 0x3FA9D097#32
  | 54 => 0x3F1120EF#32
  | 55 => 0x3E81C1A8#32
  | 56 => 0xBF8722E2#32
  | 57 => 0x4034ECC4#32
  | 58 => 0x3F08C712#32
  | 59 => 0x3E629D8C#32
  | 60 => 0xBFC41B2B#32
  | 61 => 0x406E47BC#32
  | 62 => 0x3EEFCCBB#32
  | 63 => 0x3E9DFC66#32
  | 64 => 0xBED02411#32
  | 65 => 0x3EEE8CE6#32
  | 66 => 0x3F90DEA8#32
  | 67 => 0xBE9E9D2B#32
  | 68 => 0x3F57D3E0#32
  | 69 => 0xBEB83D17#32
  | 70 => 0x402D4E06#32
  | 71 => 0x407F6A47#32
  | 72 => 0xBC9B4002#32
  | 73 => 0xBEBFBDCB#32
  | 74 => 0x4034889E#32
  | 75 => 0x3EB31939#32
  | 76 => 0x3FB6439E#32
  | 77 => 0xBF6AD33F#32
  | 78 => 0xBFB49B9B#32
  | 79 => 0xBE5BEE9F#32
  | 80 => 0xBD974386#32
  | 81 => 0x3E9CD4A2#32
  | 82 => 0x4022BB6F#32
  | 83 => 0x3F9045E9#32
  | 84 => 0x4072E01F#32
  | 85 => 0x3FB33C1C#32
  | 86 => 0x3EF5E500#32
  | 87 => 0x40127495#32
  | 88 => 0x3F75A8C6#32
  | 89 => 0x405A34B0#32
  | 90 => 0x3F81513A#32
  | 91 => 0x3FA9E589#32
  | 92 => 0x3E9EEEB2#32
  | 93 => 0xBFC647E4#32
  | 94 => 0x3F6F6E42#32
  | 95 => 0x3F7C84DA#32
  | 96 => 0xBF17A7C5#32
  | 97 => 0xBF155F80#32
  | 98 => 0xBF0EF50F#32
  | 99 => 0xBF70082A#32
  | 100 => 0x3E8F6309#32
  | 101 => 0xBF922309#32
  | 102 => 0x3FF2FCC3#32
  | 103 => 0xBF50784A#32
  | 104 => 0x3F0BDD41#32
  | 105 => 0xBEC1ED31#32
  | 106 => 0x3F858772#32
  | 107 => 0xBEFBA4E6#32
  | 108 => 0x3F2DC4A5#32
  | 109 => 0xBE9F6E17#32
  | 110 => 0x402DA4F0#32
  | 111 => 0x3FCD544D#32
  | 112 => 0xBFBC89AC#32
  | 113 => 0x406517AD#32
  | 114 => 0x3F07D965#32
  | 115 => 0xBDA1897F#32
  | 116 => 0x3FBFF7A8#32
  | 117 => 0xBF0055CF#32
  | 118 => 0x3E37A09E#32
  | 119 => 0xBF080652#32
  | 120 => 0x4079A108#32
  | 121 => 0x3F1B7249#32
  | 122 => 0x3F32B548#32
  | 123 => 0x3F052AB2#32
  | 124 => 0xBBC481DC#32
  | 125 => 0x4004FF68#32
  | 126 => 0xBF5D3920#32
  | 127 => 0xBF05C80A#32
  | _ => 0#32

noncomputable abbrev lit0t0_226 (i : Nat) : BitVec 32 := match i % 128 with
  | 0 => 0xBF62768E#32
  | 1 => 0xBED90B8F#32
  | 2 => 0x3FD12F3D#32
  | 3 => 0xBF66A898#32
  | 4 => 0xBF1D4006#32
  | 5 => 0xBDCAE557#32
  | 6 => 0x3FA3F100#32
  | 7 => 0x3E7689F0#32
  | 8 => 0x3F43C59D#32
  | 9 => 0x3F820DE6#32
  | 10 => 0xBAFA9AA1#32
  | 11 => 0x3FC23439#32
  | 12 => 0xBF4E72CC#32
  | 13 => 0x3FFEA894#32
  | 14 => 0x3F0A49EE#32
  | 15 => 0xBE0419FE#32
  | 16 => 0x3F0E6E5E#32
  | 17 => 0x4001DD7E#32
  | 18 => 0x3F0A78B1#32
  | 19 => 0x3E0A1A74#32
  | 20 => 0x3FB46A62#32
  | 21 => 0x3F4DADC4#32
  | 22 => 0x40066FF8#32
  | 23 => 0x3EB2F6AD#32
  | 24 => 0xBE0B0F17#32
  | 25 => 0x3FCD4DCA#32
  | 26 => 0xBEADC9CB#32
  | 27 => 0x3FD789D4#32
  | 28 => 0x3F93C4C5#32
  | 29 => 0xBE5894DC#32
  | 30 => 0xBF09466E#32
  | 31 => 0x3EE7875A#32
  | 32 => 0xBECF2267#32
  | 33 => 0x3FDBD992#32
  | 34 => 0x3F9A810D#32
  | 35 => 0x3F7FD4B4#32
  | 36 => 0x3F50CB57#32
  | 37 => 0x3FB5A79B#32
  | 38 => 0x3F08B50E#32
  | 39 => 0xBDF2F50B#32
  | 40 => 0xBEF8F680#32
  | 41 => 0x3F984D0F#32
  | 42 => 0x4061CA17#32
  | 43 => 0x3FB34B5C#32
  | 44 => 0x40396127#32
  | 45 => 0xBF33D0F4#32
  | 46 => 0xBE365537#32
  | 47 => 0x3EC3AB12#32
  | 48 => 0xBF1DF71B#32
  | 49 => 0x3F001115#32
  | 50 => 0xBE78218F#32
  | 51 => 0x3F75FD9F#32
  | 52 => 0xBDC78632#32
  | 53 => 0x3F5E593E#32
  | 54 => 0xBF3DC14B#32
  | 55 => 0x3E942668#32
  | 56 => 0x3EDE16CB#32
  | 57 => 0xBF1948F7#32
  | 58 => 0xBE78C036#32
  | 59 => 0x3FD80D19#32
  | 60 => 0x404024B1#32
  | 61 => 0x3E55C5F2#32
  | 62 => 0x3F366985#32
  | 63 => 0x3F726FCE#32
  | 64 => 0x3F1B1527#32
  | 65 => 0xBF2A5066#32
  | 66 => 0xBF1EAD15#32
  | 67 => 0x3F80562E#32
  | 68 => 0x3E5B886D#32
  | 69 => 0xBF29CB10#32
  | 70 => 0xBE87105E#32
  | 71 => 0x3EB07251#32
  | 72 => 0xBE8587A6#32
  | 73 => 0xBF6B1184#32
  | 74 => 0x3F1906FB#32
  | 75 => 0x3FFA99EE#32
  | 76 => 0xBED06BD1#32
  | 77 => 0x3C70E095#32
  | 78 => 0x3F7F54A7#32
  | 79 => 0xBFA9EDE9#32
  | 80 => 0xBF095C22#32
  | 81 => 0xBDFE11E4#32
  | 82 => 0xBEB91735#32
  | 83 => 0xBEE3EFFC#32
  | 84 => 0xBF375C0B#32
  | 85 => 0x400DB6BF#32
  | 86 => 0x3FBAF1B6#32
  | 87 => 0xBF6D5AB1#32
  | 88 => 0xBEB612EA#32
  | 89 => 0xBEB619D8#32
  | 90 => 0xBE715C6E#32
  | 91 => 0xBF28A06C#32
  | 92 => 0x3FD02C23#32
  | 93 => 0x40243D61#32
  | 94 => 0xBF3ABAE6#32
  | 95 => 0x3E34D21D#32
  | 96 => 0xBE4CBD25#32
  | 97 => 0x3F6B6E10#32
  | 98 => 0xBEFC0A4A#32
  | 99 => 0xBE4FBBDB#32
  | 100 => 0xBF7E450C#32
  | 101 => 0xBE6AB3A0#32
  | 102 => 0xBEFF8E54#32
  | 103 => 0x3F42029E#32
  | 104 => 0x3FDBD477#32
  | 105 => 0xBF258A54#32
  | 106 => 0x4013E127#32
  | 107 => 0x3EBA87A4#32
  | 108 => 0x3F534948#32
  | 109 => 0x40179FEC#32
  | 110 => 0xBEF5A1D2#32
  | 111 => 0x3F53FEC5#32
  | 112 => 0xBD55B249#32
  | 113 => 0x4011F487#32
  | 114 => 0x3F925BC4#32
  | 115 => 0x3F064FD2#32
  | 116 => 0x3F896166#32
  | 117 => 0x3FD91DB7#32
  | 118 => 0x3FBDA0F2#32
  | 119 => 0x3F8FCB9E#32
  | 120 => 0x3F9B756F#32
  | 121 => 0x3E7CA5F9#32
  | 122 => 0x3F73A2AC#32
  | 123 => 0x3F61030C#32
  | 124 => 0x3E512495#32
  | 125 => 0x403A2ACE#32
  | 126 => 0x3F7050C1#32
  | 127 => 0x3FB1556D#32
  | _ => 0#32

noncomputable abbrev lit0t0_227 (i : Nat) : BitVec 32 := match i % 128 with
  | 0 => 0x3F45ECC9#32
  | 1 => 0x405071AA#32
  | 2 => 0xBFCA7540#32
  | 3 => 0xBF365611#32
  | 4 => 0x3D95DAFC#32
  | 5 => 0x3F224DD0#32
  | 6 => 0xBF1DD5EA#32
  | 7 => 0x3EB5FDF4#32
  | 8 => 0x3F85A844#32
  | 9 => 0x400250C1#32
  | 10 => 0xBD2F6AC7#32
  | 11 => 0xBEAE9373#32
  | 12 => 0x3EEABBCD#32
  | 13 => 0xBF3BBD2E#32
  | 14 => 0x3FCE337D#32
  | 15 => 0xBF3403BA#32
  | 16 => 0xBFB32E72#32
  | 17 => 0x3F498112#32
  | 18 => 0x3F1273CB#32
  | 19 => 0x3F852FAE#32
  | 20 => 0x3EF528E4#32
  | 21 => 0xBED141B5#32
  | 22 => 0xBE3FF1B4#32
  | 23 => 0xBF890DF5#32
  | 24 => 0x3F32C735#32
  | 25 => 0x3F79529C#32
  | 26 => 0x3FB924E5#32
  | 27 => 0x401B5665#32
  | 28 => 0x3F6269D6#32
  | 29 => 0x401CD294#32
  | 30 => 0x3DFB718F#32
  | 31 => 0x3F4AA02F#32
  | 32 => 0x3F7746B6#32
  | 33 => 0x3F55B94E#32
  | 34 => 0xBEF3BC1A#32
  | 35 => 0x3E84DD2F#32
  | 36 => 0xBDACF993#32
  | 37 => 0xBC967DF3#32
  | 38 => 0x401C26C9#32
  | 39 => 0x3F721052#32
  | 40 => 0x3EFF23D0#32
  | 41 => 0x3C63E92E#32
  | 42 => 0x4052C99B#32
  | 43 => 0xBD98F9E9#32
  | 44 => 0xBF0D8289#32
  | 45 => 0xBDB4C063#32
  | 46 => 0x3E78B92D#32
  | 47 => 0x4095BB8D#32
  | 48 => 0x3FC36814#32
  | 49 => 0x3FACF9CA#32
  | 50 => 0xBEA69C02#32
  | 51 => 0xBE9B7671#32
  | 52 => 0xBFA105C7#32
  | 53 => 0xBF80F20F#32
  | 54 => 0x3FD39A07#32
  | 55 => 0xBECD7232#32
  | 56 => 0x3FA87D3D#32
  | 57 => 0xBF97BF43#32
  | 58 => 0x3F526205#32
  | 59 => 0xBE85AE65#32
  | 60 => 0x40187C8A#32
  | 61 => 0xBEE5F022#32
  | 62 => 0x3FEB9F9C#32
  | 63 => 0xBD9793BE#32
  | 64 => 0x3E8FEBD2#32
  | 65 => 0xBF8B262A#32
  | 66 => 0xBE69298C#32
  | 67 => 0x3F78F230#32
  | 68 => 0x3F676F5B#32
  | 69 => 0x4090205C#32
  | 70 => 0x3EA0DE24#32
  | 71 => 0xBDE793E0#32
  | 72 => 0x3F78CF50#32
  | 73 => 0xBED67DFB#32
  | 74 => 0x3FFBDFCA#32
  | 75 => 0x3EEDCFE5#32
  | 76 => 0xBED88AD7#32
  | 77 => 0x3F3CEF78#32
  | 78 => 0xBD960436#32
  | 79 => 0x3FCC5188#32
  | 80 => 0xBEBD0AD6#32
  | 81 => 0x401877AB#32
  | 82 => 0xBEA1B824#32
  | 83 => 0x3F9BAF32#32
  | 84 => 0x3F8632E5#32
  | 85 => 0x3FA420B7#32
  | 86 => 0xBEAB61B7#32
  | 87 => 0x3D47BECC#32
  | 88 => 0x403A6569#32
  | 89 => 0x40695023#32
  | 90 => 0x406DDFB3#32
  | 91 => 0xBF73A482#32
  | 92 => 0x400F6514#32
  | 93 => 0x4020CC7C#32
  | 94 => 0xBEA21C55#32
  | 95 => 0xBF1E13A7#32
  | 96 => 0x3FFC82ED#32
  | 97 => 0x4038DCB1#32
  | 98 => 0xBF470FAB#32
  | 99 => 0x3FB75C1C#32
  | 100 => 0x3EC95AE7#32
  | 101 => 0xBDC125FC#32
  | 102 => 0xBF620C52#32
  | 103 => 0x3F0D0B68#32
  | 104 => 0x40ABB4BF#32
  | 105 => 0xBF69D6A0#32
  | 106 => 0x3E5D2D0D#32
  | 107 => 0x3ED5EBAB#32
  | 108 => 0x3E4ECEEF#32
  | 109 => 0x3F2A360D#32
  | 110 => 0x3F24D315#32
  | 111 => 0x3FF65614#32
  | 112 => 0x3F242DD7#32
  | 113 => 0x3F9B97A9#32
  | 114 => 0xBE3AE61F#32
  | 115 => 0x4045B71F#32
  | 116 => 0x3EBDB1C0#32
  | 117 => 0x3FCDFA10#32
  | 118 => 0x3ED53F71#32
  | 119 => 0x3F289F39#32
  | 120 => 0x3F1A505C#32
  | 121 => 0x3F2A6690#32
  | 122 => 0x3FDCE914#32
  | 123 => 0x3F02358C#32
  | 124 => 0x3F3B51B5#32
  | 125 => 0x3EF1F34C#32
  | 126 => 0xBDC4EDD8#32
  | 127 => 0x3FB329F7#32
  | _ => 0#32

noncomputable abbrev lit0t0_228 (i : Nat) : BitVec 32 := match i % 128 with
  | 0 => 0xBF471658#32
  | 1 => 0x3F6525D5#32
  | 2 => 0x3FF5FC66#32
  | 3 => 0x3FC92D50#32
  | 4 => 0x3F44539F#32
  | 5 => 0xBEE83E0D#32
  | 6 => 0x3F8FFC22#32
  | 7 => 0x3FDDC73E#32
  | 8 => 0xBE2621D7#32
  | 9 => 0xBF57293C#32
  | 10 => 0xBF0CFEEC#32
  | 11 => 0x4098BDDF#32
  | 12 => 0x3F131AC3#32
  | 13 => 0x3FDADFD1#32
  | 14 => 0x3FC177FF#32
  | 15 => 0x4003107F#32
  | 16 => 0x3FE35C73#32
  | 17 => 0x3EBD4B6F#32
  | 18 => 0x3E7DFA39#32
  | 19 => 0xBE772386#32
  | 20 => 0xBF1DEFEC#32
  | 21 => 0xBF819CF0#32
  | 22 => 0x3F6053B6#32
  | 23 => 0xBD980C66#32
  | 24 => 0xBE29A3D3#32
  | 25 => 0x3F48336B#32
  | 26 => 0x40428DC7#32
  | 27 => 0x3F7983A2#32
  | 28 => 0xBF1A250C#32
  | 29 => 0x3FC6006A#32
  | 30 => 0x3EA8DB47#32
  | 31 => 0x3FA34386#32
  | 32 => 0x3EB81BD4#32
  | 33 => 0x3F091B06#32
  | 34 => 0xBF286CA6#32
  | 35 => 0x3FB816FA#32
  | 36 => 0x3F9BF815#32
  | 37 => 0x3EC4AA7B#32
  | 38 => 0xBD1AAFFD#32
  | 39 => 0x3E81D174#32
  | 40 => 0x3FBEB8EF#32
  | 41 => 0xBF94451C#32
  | 42 => 0xBFA91116#32
  | 43 => 0xBE7CEBBF#32
  | 44 => 0xBDA36487#32
  | 45 => 0x3E47C402#32
  | 46 => 0x3F9FFD04#32
  | 47 => 0x3F857D56#32
  | 48 => 0x3F274B06#32
  | 49 => 0xBE55A262#32
  | 50 => 0x3FCBCF56#32
  | 51 => 0x3EBC997A#32
  | 52 => 0xBF3619E1#32
  | 53 => 0x3FFE71F6#32
  | 54 => 0x3DC07D38#32
  | 55 => 0x3F9007DA#32
  | 56 => 0xBF8B06C0#32
  | 57 => 0xBEFB46D0#32
  | 58 => 0x3F034736#32
  | 59 => 0x404494AB#32
  | 60 => 0x40063283#32
  | 61 => 0xBF91BE3A#32
  | 62 => 0xBF59B6D5#32
  | 63 => 0x3FCEB194#32
  | 64 => 0x4040D253#32
  | 65 => 0x3D846E7A#32
  | 66 => 0x3ED96F29#32
  | 67 => 0xBF8325F8#32
  | 68 => 0x3FAE9292#32
  | 69 => 0x3ECBFD49#32
  | 70 => 0x3F4085F2#32
  | 71 => 0x3F25F712#32
  | 72 => 0x3F111048#32
  | 73 => 0xBF85FEE1#32
  | 74 => 0x3FBC2A25#32
  | 75 => 0x3DF1A7EF#32
  | 76 => 0x3EA483BA#32
  | 77 => 0x401631BA#32
  | 78 => 0x403F023C#32
  | 79 => 0x3F00C4FA#32
  | 80 => 0x3EEEEB06#32
  | 81 => 0x40217DBF#32
  | 82 => 0x3F82A2EF#32
  | 83 => 0xBF9C3564#32
  | 84 => 0xBD09CBEB#32
  | 85 => 0x3FA8CF60#32
  | 86 => 0x3FE941DC#32
  | 87 => 0x3E0DC49D#32
  | 88 => 0x3ECF78D9#32
  | 89 => 0x4056A57A#32
  | 90 => 0xBF5DC76A#32
  | 91 => 0xBE9FF42F#32
  | 92 => 0x3F37C698#32
  | 93 => 0xBDDD8C1F#32
  | 94 => 0x3FF34831#32
  | 95 => 0x3FCFB603#32
  | 96 => 0x3F0F474A#32
  | 97 => 0xBFCED150#32
  | 98 => 0xBFA034AC#32
  | 99 => 0xBF27EAFD#32
  | 100 => 0xBD8675A6#32
  | 101 => 0xBDE217CD#32
  | 102 => 0xBF8FAE1F#32
  | 103 => 0x3E0BEB33#32
  | 104 => 0x3FC0972B#32
  | 105 => 0x3F7F2208#32
  | 106 => 0xBF3B547A#32
  | 107 => 0x3EC3A131#32
  | 108 => 0x3F78B9AA#32
  | 109 => 0x3FD97E61#32
  | 110 => 0x3F25003B#32
  | 111 => 0x3FE7648C#32
  | 112 => 0xBF1C0460#32
  | 113 => 0x3D52EBF0#32
  | 114 => 0x3ECC8466#32
  | 115 => 0xBEEE121E#32
  | 116 => 0xBD8FCF51#32
  | 117 => 0x3FC73787#32
  | 118 => 0xBF8EB014#32
  | 119 => 0x407B9AF3#32
  | 120 => 0x3F1CEA4D#32
  | 121 => 0x3F9579BB#32
  | 122 => 0xBF1B0222#32
  | 123 => 0xBCE94E5F#32
  | 124 => 0x40837278#32
  | 125 => 0x3F7725CE#32
  | 126 => 0x3F0E4286#32
  | 127 => 0x4011DD94#32
  | _ => 0#32

noncomputable abbrev lit0t0_229 (i : Nat) : BitVec 32 := match i % 128 with
  | 0 => 0xBF8CA312#32
  | 1 => 0x3F66EF87#32
  | 2 => 0x3F503806#32
  | 3 => 0x3F6EC7EA#32
  | 4 => 0x4024F417#32
  | 5 => 0x3F868632#32
  | 6 => 0x40370C0B#32
  | 7 => 0xBEA17488#32
  | 8 => 0x3F62A2BF#32
  | 9 => 0xBE89EE77#32
  | 10 => 0x3F5C200C#32
  | 11 => 0x3DC1ADFC#32
  | 12 => 0x4088DA19#32
  | 13 => 0x3F040304#32
  | 14 => 0xBF0B7D33#32
  | 15 => 0xBEA341AF#32
  | 16 => 0x3FC93925#32
  | 17 => 0x3F694997#32
  | 18 => 0x4049AF24#32
  | 19 => 0x3F49BA51#32
  | 20 => 0x3F50AFB0#32
  | 21 => 0xBFA781BF#32
  | 22 => 0xBF4D6F21#32
  | 23 => 0x3FBFAA42#32
  | 24 => 0xBF1403DD#32
  | 25 => 0x3FD27ED6#32
  | 26 => 0x3E363F26#32
  | 27 => 0x3F532463#32
  | 28 => 0xBEF79451#32
  | 29 => 0xBEA2215A#32
  | 30 => 0x3FE52AB4#32
  | 31 => 0x3FBA8912#32
  | 32 => 0xBF16A973#32
  | 33 => 0xBD92F528#32
  | 34 => 0x40091E2B#32
  | 35 => 0x3F4BDB3A#32
  | 36 => 0xBE82867A#32
  | 37 => 0x3ED6D2D3#32
  | 38 => 0x3FA8ABEA#32
  | 39 => 0x3FE9C52B#32
  | 40 => 0x3EEE7476#32
  | 41 => 0xBF498020#32
  | 42 => 0xBF43BCB4#32
  | 43 => 0x3ED6D250#32
  | 44 => 0x3FC3D2C8#32
  | 45 => 0x3B8E29D5#32
  | 46 => 0x40A28553#32
  | 47 => 0xBDD70D00#32
  | 48 => 0x3F8C2A33#32
  | 49 => 0x3FB76F7A#32
  | 50 => 0xBC9BE5D4#32
  | 51 => 0xBE04E3F7#32
  | 52 => 0xBDFE47E1#32
  | 53 => 0xBF966D1D#32
  | 54 => 0x3F3FECF5#32
  | 55 => 0x3DEDFF18#32
  | 56 => 0x3F30F025#32
  | 57 => 0x3D9F164F#32
  | 58 => 0x400DAB24#32
  | 59 => 0xBDA24DD8#32
  | 60 => 0x3F3F64F3#32
  | 61 => 0x3F549AF8#32
  | 62 => 0xBF5A1399#32
  | 63 => 0x3EA73172#32
  | 64 => 0x4048D298#32
  | 65 => 0xBEAD1888#32
  | 66 => 0xBF92B1A2#32
  | 67 => 0x3F960631#32
  | 68 => 0x3E88C902#32
  | 69 => 0xBE73EF3C#32
  | 70 => 0xBEBE12EA#32
  | 71 => 0xBF225DEA#32
  | 72 => 0x3F3F4BD0#32
  | 73 => 0x3F91CF68#32
  | 74 => 0x3FC747F3#32
  | 75 => 0xBF51F3A1#32
  | 76 => 0x40515FA2#32
  | 77 => 0xBF2CB841#32
  | 78 => 0xBE579327#32
  | 79 => 0x3FF3294F#32
  | 80 => 0x40BC276E#32
  | 81 => 0x3F8F821B#32
  | 82 => 0x3EC6CED6#32
  | 83 => 0x3FA3FEF1#32
  | 84 => 0x40233231#32
  | 85 => 0xBE166DFD#32
  | 86 => 0xBF962B58#32
  | 87 => 0x3FA8DC26#32
  | 88 => 0x3E89190E#32
  | 89 => 0x3F862B92#32
  | 90 => 0x3FC58527#32
  | 91 => 0x405EFFF0#32
  | 92 => 0x40857A0E#32
  | 93 => 0x3E25CB70#32
  | 94 => 0x401BB3BE#32
  | 95 => 0x3ED803BD#32
  | 96 => 0x3E350300#32
  | 97 => 0x408DBA83#32
  | 98 => 0x3C48C624#32
  | 99 => 0xBEF80CB8#32
  | 100 => 0x3F98F790#32
  | 101 => 0xBDBCCB12#32
  | 102 => 0x3EAF9787#32
  | 103 => 0xBED04B06#32
  | 104 => 0x3F062D90#32
  | 105 => 0x3F90EC93#32
  | 106 => 0x3F795C35#32
  | 107 => 0xBEED0F89#32
  | 108 => 0x40ED5F92#32
  | 109 => 0x3F0D87E7#32
  | 110 => 0xBFA742D3#32
  | 111 => 0x3F896D98#32
  | 112 => 0xBF127AEF#32
  | 113 => 0x3EA01B45#32
  | 114 => 0x3F99B85B#32
  | 115 => 0x3EB3F776#32
  | 116 => 0x3F6F02D9#32
  | 117 => 0x3FADD20F#32
  | 118 => 0x3FA44240#32
  | 119 => 0x3DF96FBB#32
  | 120 => 0xBF5E6189#32
  | 121 => 0xBE59C897#32
  | 122 => 0xBD5F17AD#32
  | 123 => 0xBF3D1545#32
  | 124 => 0x40102D85#32
  | 125 => 0xBF2D9E0A#32
  | 126 => 0x3F4829D0#32
  | 127 => 0xBEFF2920#32
  | _ => 0#32

noncomputable abbrev lit0t0_230 (i : Nat) : BitVec 32 := match i % 128 with
  | 0 => 0x3F3635CA#32
  | 1 => 0x3FECB655#32
  | 2 => 0xBF99347F#32
  | 3 => 0xBFB162AE#32
  | 4 => 0x3D935E77#32
  | 5 => 0xBF165F30#32
  | 6 => 0x3E152293#32
  | 7 => 0x3F8BA250#32
  | 8 => 0x400BEAD1#32
  | 9 => 0x3ECD5758#32
  | 10 => 0x402B545C#32
  | 11 => 0x3F9181C1#32
  | 12 => 0xBF720CE0#32
  | 13 => 0x3FBC096C#32
  | 14 => 0xBFB87731#32
  | 15 => 0xBE3E2606#32
  | 16 => 0xBEFF0D6A#32
  | 17 => 0xBF029A88#32
  | 18 => 0x4008566D#32
  | 19 => 0x400CDA2C#32
  | 20 => 0xBD35EF60#32
  | 21 => 0x3EC0C5E6#32
  | 22 => 0xBDD48E2D#32
  | 23 => 0x3F9A526E#32
  | 24 => 0x3FBA387F#32
  | 25 => 0x403D78AA#32
  | 26 => 0xBEEE0AEE#32
  | 27 => 0xBDED5E6B#32
  | 28 => 0xBEA8B5FE#32
  | 29 => 0x3F851D6C#32
  | 30 => 0x3D29CFBC#32
  | 31 => 0x4005422E#32
  | 32 => 0xBF611EE2#32
  | 33 => 0x3F7F7ECE#32
  | 34 => 0x3F11572E#32
  | 35 => 0x3F96B28D#32
  | 36 => 0xBEA6E32C#32
  | 37 => 0x3DAA7E11#32
  | 38 => 0x3FCAACF6#32
  | 39 => 0x3E88820C#32
  | 40 => 0x3E982431#32
  | 41 => 0x3F03C290#32
  | 42 => 0x3EAAE515#32
  | 43 => 0xBFEE95BA#32
  | 44 => 0x3F930C57#32
  | 45 => 0x400A68DF#32
  | 46 => 0xBE8A0F78#32
  | 47 => 0x3F5F8FBE#32
  | 48 => 0x3E8510BF#32
  | 49 => 0xBDB87C02#32
  | 50 => 0xBF2DE1FF#32
  | 51 => 0x3E027B48#32
  | 52 => 0x3FD3BA0F#32
  | 53 => 0x3F49451A#32
  | 54 => 0x3FE8A060#32
  | 55 => 0xBF7F879E#32
  | 56 => 0xBEB38528#32
  | 57 => 0xBC113B3B#32
  | 58 => 0xBF1BD3AB#32
  | 59 => 0x3EA82625#32
  | 60 => 0x400B4FD4#32
  | 61 => 0x404507D1#32
  | 62 => 0x3E89F7DA#32
  | 63 => 0x3FB32F2D#32
  | 64 => 0xBF09C1D0#32
  | 65 => 0x3E247764#32
  | 66 => 0x3F2946D9#32
  | 67 => 0xBEDDE037#32
  | 68 => 0x3F914D0F#32
  | 69 => 0xBF65F0C6#32
  | 70 => 0xBE51EE47#32
  | 71 => 0xBDCEA32F#32
  | 72 => 0x3E98CA17#32
  | 73 => 0x3DBE7095#32
  | 74 => 0x3F445652#32
  | 75 => 0x3FA1491E#32
  | 76 => 0xBF0FB9A2#32
  | 77 => 0x3FBF91E5#32
  | 78 => 0x3F2FD8D2#32
  | 79 => 0x3E9B0763#32
  | 80 => 0x3FC22C32#32
  | 81 => 0x3F9BC278#32
  | 82 => 0x3FBE43E7#32
  | 83 => 0x3F42B965#32
  | 84 => 0x3F632E52#32
  | 85 => 0x3FC686BE#32
  | 86 => 0xBEA052DE#32
  | 87 => 0xBD900A37#32
  | 88 => 0x3F89795A#32
  | 89 => 0x3F824340#32
  | 90 => 0x3DBAD7E9#32
  | 91 => 0x3E98DD98#32
  | 92 => 0x3F178644#32
  | 93 => 0xBF754FF8#32
  | 94 => 0x3E9FABF3#32
  | 95 => 0x3F381D7D#32
  | 96 => 0xBECE35BF#32
  | 97 => 0x3F1661FE#32
  | 98 => 0x3FE45DD6#32
  | 99 => 0x3FAB2ED1#32
  | 100 => 0x3E7EE41A#32
  | 101 => 0x401F5CB8#32
  | 102 => 0x3DE229F2#32
  | 103 => 0xBECF1AF0#32
  | 104 => 0x3FEF6C78#32
  | 105 => 0xBF87FF87#32
  | 106 => 0x3FD59066#32
  | 107 => 0xBE9C0A62#32
  | 108 => 0xBF5AFA41#32
  | 109 => 0x3FB52376#32
  | 110 => 0x407E74D8#32
  | 111 => 0x3F3B6D39#32
  | 112 => 0xBF6F46A1#32
  | 113 => 0xBF03491A#32
  | 114 => 0xBECEEC85#32
  | 115 => 0xBF325A45#32
  | 116 => 0xBF2A615F#32
  | 117 => 0x3F2A54F2#32
  | 118 => 0x3F75B6B0#32
  | 119 => 0xBF67AF31#32
  | 120 => 0x3BC94165#32
  | 121 => 0x3F416753#32
  | 122 => 0xBFB340A1#32
  | 123 => 0x3FB841E2#32
  | 124 => 0xBF155F44#32
  | 125 => 0xBF77163A#32
  | 126 => 0x3FACA976#32
  | 127 => 0xBDD253C6#32
  | _ => 0#32

noncomputable abbrev lit0t0_231 (i : Nat) : BitVec 32 := match i % 128 with
  | 0 => 0xBEDB8B6A#32
  | 1 => 0xBF99108B#32
  | 2 => 0xBE0BB1E2#32
  | 3 => 0x401F675F#32
  | 4 => 0x3F8AD33A#32
  | 5 => 0x3E2E6C18#32
  | 6 => 0x3F7D2139#32
  | 7 => 0xBF9BDD08#32
  | 8 => 0xBE2226AE#32
  | 9 => 0x3FD23CF6#32
  | 10 => 0x3E0C4C0E#32
  | 11 => 0x3E5B1EA4#32
  | 12 => 0x3FAC84DF#32
  | 13 => 0x3F639FCC#32
  | 14 => 0xBF625083#32
  | 15 => 0x3FA5D483#32
  | 16 => 0x3FFC1250#32
  | 17 => 0xBF11C146#32
  | 18 => 0x3E613393#32
  | 19 => 0x3DADC06B#32
  | 20 => 0xBED12F61#32
  | 21 => 0x3F9989C8#32
  | 22 => 0xBDF037F3#32
  | 23 => 0xBE8D76E9#32
  | 24 => 0xBEDA5AEB#32
  | 25 => 0x3FAC9D17#32
  | 26 => 0x3F1BA6EF#32
  | 27 => 0x40096A91#32
  | 28 => 0xBF31CEF1#32
  | 29 => 0xBF7FB0AC#32
  | 30 => 0x3E682428#32
  | 31 => 0xBF29E16A#32
  | 32 => 0xBF3BD3E9#32
  | 33 => 0x3FA93B8C#32
  | 34 => 0x406A544D#32
  | 35 => 0xBF9C7BB6#32
  | 36 => 0xBF8FB3E3#32
  | 37 => 0x3E9CDA65#32
  | 38 => 0x3EE77BD8#32
  | 39 => 0x3F7582E0#32
  | 40 => 0x3C909517#32
  | 41 => 0xBEF47CF8#32
  | 42 => 0x3FA3B406#32
  | 43 => 0x401B921C#32
  | 44 => 0xBEA1B4F3#32
  | 45 => 0xBE75CD4F#32
  | 46 => 0xBFCA6135#32
  | 47 => 0xBE8DB942#32
  | 48 => 0xBE113C5E#32
  | 49 => 0x3F574E9A#32
  | 50 => 0xBFBB2A0E#32
  | 51 => 0xBF804015#32
  | 52 => 0x3E920DD6#32
  | 53 => 0x3FE08AF2#32
  | 54 => 0x3FF7E186#32
  | 55 => 0x3FD51BE2#32
  | 56 => 0xBEA8E563#32
  | 57 => 0x3E9423CB#32
  | 58 => 0xBF4E6D4C#32
  | 59 => 0xBFFD5025#32
  | 60 => 0xBF1B1B57#32
  | 61 => 0xBE04B5CD#32
  | 62 => 0x3F210469#32
  | 63 => 0x3EDB4443#32
  | 64 => 0x401254C5#32
  | 65 => 0x3EBE8000#32
  | 66 => 0xBF8317E6#32
  | 67 => 0x3F47F635#32
  | 68 => 0x3F9C533A#32
  | 69 => 0x3F013981#32
  | 70 => 0x3ED9436C#32
  | 71 => 0xBF456AC4#32
  | 72 => 0x3ED7C682#32
  | 73 => 0x3E930A12#32
  | 74 => 0xBF3484BD#32
  | 75 => 0x3FC125B9#32
  | 76 => 0xBF9C1FDD#32
  | 77 => 0x3F3752B2#32
  | 78 => 0x3FE6E11C#32
  | 79 => 0x3FDA2816#32
  | 80 => 0x3F019685#32
  | 81 => 0xBEF51F38#32
  | 82 => 0xBECA228B#32
  | 83 => 0x3C3DE4E1#32
  | 84 => 0x3E366571#32
  | 85 => 0xBEE3CDAA#32
  | 86 => 0xBE1D5429#32
  | 87 => 0xBF937984#32
  | 88 => 0x3D620CBA#32
  | 89 => 0x3EFC0532#32
  | 90 => 0x3FBB928B#32
  | 91 => 0x4087AB57#32
  | 92 => 0x3FBEB76F#32
  | 93 => 0xBF141FA5#32
  | 94 => 0x4083BC53#32
  | 95 => 0x3E8E2AA9#32
  | 96 => 0xBEEDB638#32
  | 97 => 0xBF88321C#32
  | 98 => 0x3F360B61#32
  | 99 => 0x3F000CBC#32
  | 100 => 0xBFED76F9#32
  | 101 => 0x3FD439E2#32
  | 102 => 0xBF367D56#32
  | 103 => 0x3FCD69C2#32
  | 104 => 0xBF862278#32
  | 105 => 0x3F9A32AE#32
  | 106 => 0x406F208E#32
  | 107 => 0x3D14B8E8#32
  | 108 => 0x3F1FB728#32
  | 109 => 0x3E409F66#32
  | 110 => 0x3F29361D#32
  | 111 => 0xBED8E465#32
  | 112 => 0x3E3499BE#32
  | 113 => 0x3E9C0F1D#32
  | 114 => 0xBD0DD568#32
  | 115 => 0xBD2A134E#32
  | 116 => 0x3D866C30#32
  | 117 => 0x3FE324C8#32
  | 118 => 0xBF60F054#32
  | 119 => 0x4044CDCB#32
  | 120 => 0x3F9A431F#32
  | 121 => 0x3F47875C#32
  | 122 => 0x3FDE9E76#32
  | 123 => 0x3E9211D9#32
  | 124 => 0x3F5998DC#32
  | 125 => 0x3F97AAF2#32
  | 126 => 0x3F952C34#32
  | 127 => 0x3FDC5020#32
  | _ => 0#32

noncomputable abbrev lit0t0_232 (i : Nat) : BitVec 32 := match i % 128 with
  | 0 => 0xBF603316#32
  | 1 => 0xBF352DAE#32
  | 2 => 0xBDD92D13#32
  | 3 => 0xBF30F37F#32
  | 4 => 0xBFF49793#32
  | 5 => 0x3C315A59#32
  | 6 => 0x3F3D66F6#32
  | 7 => 0x3E9C3570#32
  | 8 => 0x40BECAEE#32
  | 9 => 0xBEB7FA19#32
  | 10 => 0x3F02BDE2#32
  | 11 => 0x3E9EBE93#32
  | 12 => 0x404777F0#32
  | 13 => 0xBF432404#32
  | 14 => 0xBED7C61D#32
  | 15 => 0x3EEE0977#32
  | 16 => 0x3ECB0F07#32
  | 17 => 0xBED2306F#32
  | 18 => 0xBF37C85D#32
  | 19 => 0x400D836B#32
  | 20 => 0x3EAE4BBD#32
  | 21 => 0x3D9D2A0B#32
  | 22 => 0x3D26E291#32
  | 23 => 0xBF9CBF7E#32
  | 24 => 0x3FE011CA#32
  | 25 => 0xBF44B788#32
  | 26 => 0x403A1C7A#32
  | 27 => 0xBF197AC2#32
  | 28 => 0x3F383F66#32
  | 29 => 0x3FA821BA#32
  | 30 => 0x3FEFA18A#32
  | 31 => 0x3F60A96C#32
  | 32 => 0xBF33EEBE#32
  | 33 => 0xBE7E3A02#32
  | 34 => 0x400F251E#32
  | 35 => 0x402968F8#32
  | 36 => 0xBED162E7#32
  | 37 => 0x3FC09116#32
  | 38 => 0xBE18140E#32
  | 39 => 0x3E9B2E72#32
  | 40 => 0x401E4EE7#32
  | 41 => 0x3FB78E56#32
  | 42 => 0xBF2752FE#32
  | 43 => 0x3DB0CEA4#32
  | 44 => 0x3FCE1A84#32
  | 45 => 0x3F672729#32
  | 46 => 0x3EC008DD#32
  | 47 => 0x3ECF7277#32
  | 48 => 0x3E05B4A4#32
  | 49 => 0xBF25B1A7#32
  | 50 => 0xBF6C3AB5#32
  | 51 => 0xBF42917A#32
  | 52 => 0x3DE59EE2#32
  | 53 => 0x40906516#32
  | 54 => 0x3FE4CF77#32
  | 55 => 0x3F8AE02C#32
  | 56 => 0x3FCA3BDD#32
  | 57 => 0xC002F083#32
  | 58 => 0x3FC679B9#32
  | 59 => 0x3E310883#32
  | 60 => 0xBD3AFA2B#32
  | 61 => 0xBC34D78F#32
  | 62 => 0x40285EC1#32
  | 63 => 0xBD35AC0F#32
  | 64 => 0x3FCE7D87#32
  | 65 => 0x3F3A14EC#32
  | 66 => 0xBE25C386#32
  | 67 => 0xBF088A7E#32
  | 68 => 0xBF8CA200#32
  | 69 => 0x3F92A777#32
  | 70 => 0x3D00E2B5#32
  | 71 => 0x3F8EE2B8#32
  | 72 => 0x40373DBE#32
  | 73 => 0xBF404A36#32
  | 74 => 0x40304782#32
  | 75 => 0xBF611368#32
  | 76 => 0xBEC9217B#32
  | 77 => 0x404B07BE#32
  | 78 => 0x3FC57545#32
  | 79 => 0x4019333F#32
  | 80 => 0xBF9A179D#32
  | 81 => 0x3F83CD88#32
  | 82 => 0xBDD9AB24#32
  | 83 => 0x3E8F96B7#32
  | 84 => 0xBE9E9C73#32
  | 85 => 0x3BDE06A1#32
  | 86 => 0xBF46C235#32
  | 87 => 0x3F1A29B4#32
  | 88 => 0xBF5639BE#32
  | 89 => 0x3E192FC8#32
  | 90 => 0xBF13E13D#32
  | 91 => 0x3FA6F4E9#32
  | 92 => 0x3F05A56B#32
  | 93 => 0x3EBE0F83#32
  | 94 => 0x3FDDDFAA#32
  | 95 => 0x3EDB98EE#32
  | 96 => 0xBE906671#32
  | 97 => 0x3EE86B10#32
  | 98 => 0xBFBE0D76#32
  | 99 => 0xBE11B006#32
  | 100 => 0xBF77D6F5#32
  | 101 => 0x406223B6#32
  | 102 => 0x40A8CC01#32
  | 103 => 0x3F0E6834#32
  | 104 => 0xBF9153CF#32
  | 105 => 0x3C37D892#32
  | 106 => 0x3EE4DEB4#32
  | 107 => 0x3E25359C#32
  | 108 => 0x3EDF155E#32
  | 109 => 0x3E4A1864#32
  | 110 => 0x3D5DFC7D#32
  | 111 => 0x3F228297#32
  | 112 => 0x3E6F9046#32
  | 113 => 0x3F6AE9C4#32
  | 114 => 0x3F29C359#32
  | 115 => 0x3F426461#32
  | 116 => 0xBE8B285F#32
  | 117 => 0x3F382FDD#32
  | 118 => 0xBDCA152A#32
  | 119 => 0x3FF5DDB3#32
  | 120 => 0x3F81B71C#32
  | 121 => 0x402F6A57#32
  | 122 => 0xBF0E96DC#32
  | 123 => 0xBF55780C#32
  | 124 => 0x3FEBF84D#32
  | 125 => 0x3F10BB54#32
  | 126 => 0xBF1D15BE#32
  | 127 => 0xBED8CDB0#32
  | _ => 0#32

noncomputable abbrev lit0t0_233 (i : Nat) : BitVec 32 := match i % 128 with
  | 0 => 0x3F07E4FE#32
  | 1 => 0xBE98C286#32
  | 2 => 0x3E998312#32
  | 3 => 0xBF883D9B#32
  | 4 => 0x3F235192#32
  | 5 => 0x3FEEA3FC#32
  | 6 => 0x40428A23#32
  | 7 => 0xBEE53CE0#32
  | 8 => 0xBD24C96C#32
  | 9 => 0xBE332ACA#32
  | 10 => 0x3E63BE05#32
  | 11 => 0xBF971964#32
  | 12 => 0x3F4C8B79#32
  | 13 => 0x40101436#32
  | 14 => 0xBED30C0A#32
  | 15 => 0x3FED6651#32
  | 16 => 0x3E8A5292#32
  | 17 => 0x3CF8D436#32
  | 18 => 0x3FF746DB#32
  | 19 => 0x4015C329#32
  | 20 => 0x3FDE12D9#32
  | 21 => 0xBC81373D#32
  | 22 => 0xBDE06173#32
  | 23 => 0x3E702C28#32
  | 24 => 0x3F4F4335#32
  | 25 => 0x3EE97281#32
  | 26 => 0x3E9473EF#32
  | 27 => 0x40A14D0C#32
  | 28 => 0x3E82D0BD#32
  | 29 => 0x3F708998#32
  | 30 => 0x3FDED361#32
  | 31 => 0x3EDB4E58#32
  | 32 => 0x3F8F5B94#32
  | 33 => 0x3EB04C1E#32
  | 34 => 0xBEFEA822#32
  | 35 => 0x3D06322C#32
  | 36 => 0x3FA9C3BF#32
  | 37 => 0x3FBFD26A#32
  | 38 => 0xBE928CCB#32
  | 39 => 0x400CC963#32
  | 40 => 0x4086F542#32
  | 41 => 0x3FE27792#32
  | 42 => 0x3F7BFB63#32
  | 43 => 0x3E488A7C#32
  | 44 => 0x400E1DF2#32
  | 45 => 0x40AA6B88#32
  | 46 => 0x3F392984#32
  | 47 => 0xBFB0FE83#32
  | 48 => 0xBDC20E19#32
  | 49 => 0xBF927418#32
  | 50 => 0x3F064AA4#32
  | 51 => 0x3F8F4BD2#32
  | 52 => 0x3DD2F305#32
  | 53 => 0x4026A78E#32
  | 54 => 0x40846604#32
  | 55 => 0x40161806#32
  | 56 => 0x402490ED#32
  | 57 => 0x3DE2019A#32
  | 58 => 0xBCDE1D9F#32
  | 59 => 0xBE86273F#32
  | 60 => 0x3DD76AC6#32
  | 61 => 0xBF095981#32
  | 62 => 0xBE9A493A#32
  | 63 => 0xBD6ACB95#32
  | 64 => 0x3F139063#32
  | 65 => 0x40404F2E#32
  | 66 => 0x3E852355#32
  | 67 => 0x3FD5DF3B#32
  | 68 => 0x3EB0AF80#32
  | 69 => 0xBE2783A4#32
  | 70 => 0xBF2A442F#32
  | 71 => 0xBFB90C42#32
  | 72 => 0x40201066#32
  | 73 => 0x3F8A3FC1#32
  | 74 => 0x3EB83ED2#32
  | 75 => 0x3F92B6CC#32
  | 76 => 0x3FA14081#32
  | 77 => 0xBF0EB2D0#32
  | 78 => 0x3F14FBF3#32
  | 79 => 0xBEA0591B#32
  | 80 => 0x3EE8449E#32
  | 81 => 0x3E7DCA56#32
  | 82 => 0x40025620#32
  | 83 => 0xBD61F80F#32
  | 84 => 0x3F522299#32
  | 85 => 0xBDF5A1D9#32
  | 86 => 0x3F0F22CA#32
  | 87 => 0x3FC4C7EB#32
  | 88 => 0x3E086A77#32
  | 89 => 0x3F4ED536#32
  | 90 => 0x3EEAFB9D#32
  | 91 => 0x403456C6#32
  | 92 => 0x401628EC#32
  | 93 => 0xBF88AD28#32
  | 94 => 0xBD15FB63#32
  | 95 => 0x3E0B0E16#32
  | 96 => 0x3F07B144#32
  | 97 => 0xBF0C141F#32
  | 98 => 0x3F8298A1#32
  | 99 => 0x406C6176#32
  | 100 => 0x402267FA#32
  | 101 => 0x3E5EBC31#32
  | 102 => 0x3EA3CA7D#32
  | 103 => 0x3F052DA6#32
  | 104 => 0x3F30CEB0#32
  | 105 => 0x3F4D28B2#32
  | 106 => 0x3E9D8041#32
  | 107 => 0x3F37D6D2#32
  | 108 => 0x3F27A972#32
  | 109 => 0x4043532F#32
  | 110 => 0x3F9AB4B0#32
  | 111 => 0xBCB57E3F#32
  | 112 => 0x3E23B20C#32
  | 113 => 0x3E0BFA32#32
  | 114 => 0x3E87F3FC#32
  | 115 => 0x3F4DBA85#32
  | 116 => 0xBE65264A#32
  | 117 => 0xBDA2591A#32
  | 118 => 0xBE76E492#32
  | 119 => 0xBF523754#32
  | 120 => 0x3FCD6F8E#32
  | 121 => 0x3F038563#32
  | 122 => 0xBF20100E#32
  | 123 => 0xBFA0FA79#32
  | 124 => 0x40A1F797#32
  | 125 => 0x3FE8E4C0#32
  | 126 => 0x3F93CB1F#32
  | 127 => 0x3F97B9BE#32
  | _ => 0#32

noncomputable abbrev lit0t0_234 (i : Nat) : BitVec 32 := match i % 128 with
  | 0 => 0x3C5DBADE#32
  | 1 => 0x40227C5C#32
  | 2 => 0x401DA57C#32
  | 3 => 0x3FC1646B#32
  | 4 => 0x3FB65746#32
  | 5 => 0xBF35C2E1#32
  | 6 => 0x3F4A81A5#32
  | 7 => 0xBF81C3E8#32
  | 8 => 0xBF05303C#32
  | 9 => 0xBE017515#32
  | 10 => 0x3F1AADB0#32
  | 11 => 0xBF358C05#32
  | 12 => 0xBE94DF7B#32
  | 13 => 0x3E5483EB#32
  | 14 => 0x3E855EBE#32
  | 15 => 0xBF3F98CE#32
  | 16 => 0xBF0B5472#32
  | 17 => 0x3FE6B05E#32
  | 18 => 0xBF063009#32
  | 19 => 0xBF4D7CB8#32
  | 20 => 0xBE2010C7#32
  | 21 => 0xBF46C28E#32
  | 22 => 0xBD2332C8#32
  | 23 => 0x3F859212#32
  | 24 => 0xBE21331F#32
  | 25 => 0x400F46D2#32
  | 26 => 0x3FC8D970#32
  | 27 => 0x3EB9325A#32
  | 28 => 0x3E8094D7#32
  | 29 => 0x3F9B74B1#32
  | 30 => 0xBE8A05D7#32
  | 31 => 0x3FBEAB4D#32
  | 32 => 0x3CBF8F2A#32
  | 33 => 0x3F5C5610#32
  | 34 => 0x3F192434#32
  | 35 => 0xBF25833B#32
  | 36 => 0x40155F80#32
  | 37 => 0x3D9D3FD7#32
  | 38 => 0x4016B7E7#32
  | 39 => 0xBFBDEE14#32
  | 40 => 0x4054F2F7#32
  | 41 => 0x3EBD8CD5#32
  | 42 => 0x3FC7A124#32
  | 43 => 0x3F0300E5#32
  | 44 => 0x3F1D44A2#32
  | 45 => 0xBF96980D#32
  | 46 => 0xBF38F53B#32
  | 47 => 0xBECA182E#32
  | 48 => 0x404971B5#32
  | 49 => 0xBD11EFF9#32
  | 50 => 0x3A5A4742#32
  | 51 => 0xBDCC306F#32
  | 52 => 0xBE9A4444#32
  | 53 => 0x40AFF6FA#32
  | 54 => 0x3FB22018#32
  | 55 => 0xBF5FBC0E#32
  | 56 => 0x3EC15A44#32
  | 57 => 0xBDA55536#32
  | 58 => 0xBF64C00C#32
  | 59 => 0xBF915A8C#32
  | 60 => 0x3F6D5FE2#32
  | 61 => 0xBEE88FE5#32
  | 62 => 0x3F7D9D32#32
  | 63 => 0xBE9D0CC9#32
  | 64 => 0xC00475F6#32
  | 65 => 0x3F468E5E#32
  | 66 => 0xBE1C9F03#32
  | 67 => 0xBEFBC870#32
  | 68 => 0x3FB3D402#32
  | 69 => 0x3E7B68CE#32
  | 70 => 0x4010A971#32
  | 71 => 0x3E84604D#32
  | 72 => 0xBF12E1F8#32
  | 73 => 0x402320F2#32
  | 74 => 0x3F802EC0#32
  | 75 => 0xBDD214E2#32
  | 76 => 0x3F2F1132#32
  | 77 => 0x3FC12972#32
  | 78 => 0xBE318FB9#32
  | 79 => 0xBFA50484#32
  | 80 => 0xBE87261C#32
  | 81 => 0x4019D4B9#32
  | 82 => 0xBEAA1C60#32
  | 83 => 0xBF7AD980#32
  | 84 => 0xBFA9BA09#32
  | 85 => 0xBF8876C7#32
  | 86 => 0x4010869F#32
  | 87 => 0xBEA3AC8E#32
  | 88 => 0x3F2F6C63#32
  | 89 => 0xBE83CFC0#32
  | 90 => 0x3FB1A2C9#32
  | 91 => 0x401709DA#32
  | 92 => 0x3F2F05D6#32
  | 93 => 0xBF84252E#32
  | 94 => 0xBE848C7F#32
  | 95 => 0x3F8BDB36#32
  | 96 => 0x4078FF48#32
  | 97 => 0x4068B901#32
  | 98 => 0x3F1DA164#32
  | 99 => 0xBED6A457#32
  | 100 => 0x40781D68#32
  | 101 => 0xBF54E6F9#32
  | 102 => 0x3FDE12BE#32
  | 103 => 0x4001315D#32
  | 104 => 0x4057D667#32
  | 105 => 0xBF1BFF61#32
  | 106 => 0xBF3710CA#32
  | 107 => 0x3F167972#32
  | 108 => 0xBFC47A4C#32
  | 109 => 0xBEA42AC0#32
  | 110 => 0xBF22B63E#32
  | 111 => 0x40722652#32
  | 112 => 0x3FAF0730#32
  | 113 => 0x3D68D2B0#32
  | 114 => 0xBF6DB617#32
  | 115 => 0xBF522AD0#32
  | 116 => 0xBED14FD3#32
  | 117 => 0xBEB33303#32
  | 118 => 0xBF8E9C56#32
  | 119 => 0xBCE4EDEE#32
  | 120 => 0x3FA85D4F#32
  | 121 => 0xBE33FC44#32
  | 122 => 0x4008A9D5#32
  | 123 => 0x3E36EC0B#32
  | 124 => 0xBF47C61C#32
  | 125 => 0xBEC4C64D#32
  | 126 => 0xBDECB19E#32
  | 127 => 0x40018195#32
  | _ => 0#32

noncomputable abbrev lit0t0_235 (i : Nat) : BitVec 32 := match i % 128 with
  | 0 => 0xBF723E28#32
  | 1 => 0xBD2177F0#32
  | 2 => 0x3E325213#32
  | 3 => 0x3F452C87#32
  | 4 => 0x4005138B#32
  | 5 => 0xBF148E5F#32
  | 6 => 0x3FF4847C#32
  | 7 => 0xBC14BC26#32
  | 8 => 0x3E6FB458#32
  | 9 => 0x406E5750#32
  | 10 => 0x3C5C34A4#32
  | 11 => 0xBFBA782E#32
  | 12 => 0x3E8BE407#32
  | 13 => 0x4002A41B#32
  | 14 => 0x3F930541#32
  | 15 => 0x3F28942D#32
  | 16 => 0xBEBEFCCD#32
  | 17 => 0x40271AF4#32
  | 18 => 0x3FD6AD1A#32
  | 19 => 0xBF8C6C13#32
  | 20 => 0x3F1B8069#32
  | 21 => 0xBDDA2BE1#32
  | 22 => 0x3E9BCD07#32
  | 23 => 0x3EF83AC7#32
  | 24 => 0xBE3471C7#32
  | 25 => 0xBF8E87F9#32
  | 26 => 0x403643F3#32
  | 27 => 0xBED13ACA#32
  | 28 => 0x3F9501AE#32
  | 29 => 0x40887E24#32
  | 30 => 0x3E8030A1#32
  | 31 => 0x3F02E174#32
  | 32 => 0x4016A445#32
  | 33 => 0xBF75FAA0#32
  | 34 => 0x3F8361E2#32
  | 35 => 0xBF3F1939#32
  | 36 => 0x3F4F8898#32
  | 37 => 0x3F379F43#32
  | 38 => 0x3F259CA4#32
  | 39 => 0x3F48C9C1#32
  | 40 => 0x4020C2B7#32
  | 41 => 0x3EF3CB78#32
  | 42 => 0x3FBF4470#32
  | 43 => 0xBEC84F6E#32
  | 44 => 0xBE9E5B67#32
  | 45 => 0xBFAA248B#32
  | 46 => 0x40692E13#32
  | 47 => 0xBFCCA724#32
  | 48 => 0xBF39543B#32
  | 49 => 0xBF5B39B8#32
  | 50 => 0xBF4DC670#32
  | 51 => 0x3E9FBEB9#32
  | 52 => 0xBE6A2F7E#32
  | 53 => 0xBEB79472#32
  | 54 => 0xBFAB1F97#32
  | 55 => 0x3FB12EA5#32
  | 56 => 0xBF836245#32
  | 57 => 0x3F1CC15A#32
  | 58 => 0xBF36753D#32
  | 59 => 0xBD177783#32
  | 60 => 0x3E4CE98E#32
  | 61 => 0x3E2339F0#32
  | 62 => 0xBE0AF051#32
  | 63 => 0x3FA45CB8#32
  | 64 => 0xBEB521D3#32
  | 65 => 0xBF765DF2#32
  | 66 => 0xBFA28E01#32
  | 67 => 0xBE8D0605#32
  | 68 => 0xBF14A2B5#32
  | 69 => 0x403062B5#32
  | 70 => 0xBEB64C44#32
  | 71 => 0x3E1815AA#32
  | 72 => 0x401D0176#32
  | 73 => 0x3F9562D2#32
  | 74 => 0x3EA16A53#32
  | 75 => 0x3E36CECF#32
  | 76 => 0x400F3BF1#32
  | 77 => 0x3EF61979#32
  | 78 => 0x3E8C0DDF#32
  | 79 => 0x401A7275#32
  | 80 => 0x3EF82ECD#32
  | 81 => 0xBF13C2BE#32
  | 82 => 0x3EDB7B04#32
  | 83 => 0x402403A1#32
  | 84 => 0xBE999D2C#32
  | 85 => 0xBF35E055#32
  | 86 => 0x4011904E#32
  | 87 => 0x4086D9DD#32
  | 88 => 0x3FEB3664#32
  | 89 => 0x3FAEEF65#32
  | 90 => 0x3F933F0F#32
  | 91 => 0xBE38EDE2#32
  | 92 => 0xBEA7FFF8#32
  | 93 => 0x40002DD2#32
  | 94 => 0x3FAACF78#32
  | 95 => 0xBD9584A4#32
  | 96 => 0x3EB74AE7#32
  | 97 => 0xBDE5B76C#32
  | 98 => 0xBEB06BEF#32
  | 99 => 0x3F81DE31#32
  | 100 => 0xBF83E4FD#32
  | 101 => 0x3DBC0F07#32
  | 102 => 0x4031A13B#32
  | 103 => 0x3D30E0A1#32
  | 104 => 0x3E971C73#32
  | 105 => 0xBECD1FB3#32
  | 106 => 0x4005CFBC#32
  | 107 => 0xBF707D88#32
  | 108 => 0x3FDFC77A#32
  | 109 => 0x3FEC188E#32
  | 110 => 0x40141595#32
  | 111 => 0x3ECB6B37#32
  | 112 => 0x3F856656#32
  | 113 => 0x3F849F4E#32
  | 114 => 0xBEC96798#32
  | 115 => 0xBF013296#32
  | 116 => 0xBF4FAD16#32
  | 117 => 0x3FE6733E#32
  | 118 => 0xBF25485E#32
  | 119 => 0xBF1CEAD6#32
  | 120 => 0x3F63C44D#32
  | 121 => 0x3F1A9E8D#32
  | 122 => 0x3FACDFB8#32
  | 123 => 0xBF679418#32
  | 124 => 0x3FBA6485#32
  | 125 => 0xBD87DC3F#32
  | 126 => 0x3F777210#32
  | 127 => 0xBE3E2E40#32
  | _ => 0#32

noncomputable abbrev lit0t0_236 (i : Nat) : BitVec 32 := match i % 128 with
  | 0 => 0x40B6A556#32
  | 1 => 0x3E58CBFA#32
  | 2 => 0xBF48AB1E#32
  | 3 => 0x3F8DF14C#32
  | 4 => 0x3F918A1C#32
  | 5 => 0xBF3792BD#32
  | 6 => 0xBFFD3A76#32
  | 7 => 0xBEFF024A#32
  | 8 => 0xBF02465E#32
  | 9 => 0x3FF180AF#32
  | 10 => 0xBEBAC3A4#32
  | 11 => 0xBF23D43B#32
  | 12 => 0xBF17FB0B#32
  | 13 => 0x3F9F90A0#32
  | 14 => 0xBEA34BD7#32
  | 15 => 0xBF5EC077#32
  | 16 => 0x3F9550E3#32
  | 17 => 0x403AC365#32
  | 18 => 0xBF418D37#32
  | 19 => 0x3F1C7388#32
  | 20 => 0xBFEFC340#32
  | 21 => 0x3F69E709#32
  | 22 => 0x4031A7CD#32
  | 23 => 0x3FEC4934#32
  | 24 => 0xBEC4FB71#32
  | 25 => 0x40AC4266#32
  | 26 => 0x3F69C95E#32
  | 27 => 0xBE544CF7#32
  | 28 => 0x40273E5B#32
  | 29 => 0x4012748A#32
  | 30 => 0x3E4FFBC3#32
  | 31 => 0xBCCD13D8#32
  | 32 => 0x403F95DD#32
  | 33 => 0xBF11E908#32
  | 34 => 0x4024363E#32
  | 35 => 0xBE569F41#32
  | 36 => 0xBF4E6FEA#32
  | 37 => 0xBFA3C10D#32
  | 38 => 0xBEA415A5#32
  | 39 => 0xBEF1510C#32
  | 40 => 0xBF3A9D16#32
  | 41 => 0xBE199A84#32
  | 42 => 0xBF0C386E#32
  | 43 => 0x3FCA2A52#32
  | 44 => 0x3E8E1ADE#32
  | 45 => 0x40116785#32
  | 46 => 0xBF87F470#32
  | 47 => 0xBE0D08CA#32
  | 48 => 0x4028E6C4#32
  | 49 => 0x3FF47746#32
  | 50 => 0x3E346408#32
  | 51 => 0xBEA68D2E#32
  | 52 => 0x3F9C0B0D#32
  | 53 => 0x3DCCED39#32
  | 54 => 0x3FDDEF13#32
  | 55 => 0xBF967A50#32
  | 56 => 0xBF455663#32
  | 57 => 0x3F4545F2#32
  | 58 => 0x3E917972#32
  | 59 => 0x3EE27AC6#32
  | 60 => 0x4056F913#32
  | 61 => 0xBF4DBA20#32
  | 62 => 0x3FE84412#32
  | 63 => 0x4036B245#32
  | 64 => 0x3DAAA7D8#32
  | 65 => 0x3F23C2E6#32
  | 66 => 0x3EBA273B#32
  | 67 => 0xBF550EDE#32
  | 68 => 0x40061FA0#32
  | 69 => 0xBFAE2817#32
  | 70 => 0x3ED80510#32
  | 71 => 0x3FC70138#32
  | 72 => 0x3FA7BE1C#32
  | 73 => 0xBEB663B7#32
  | 74 => 0x3FA0FD85#32
  | 75 => 0x3E189176#32
  | 76 => 0x3F64E06C#32
  | 77 => 0xBF8CB6E3#32
  | 78 => 0x3E871B23#32
  | 79 => 0x3FDB462A#32
  | 80 => 0xBF4B06D5#32
  | 81 => 0x3EB0671D#32
  | 82 => 0xBD82D2DD#32
  | 83 => 0x3F81DCC8#32
  | 84 => 0x3FF54A39#32
  | 85 => 0x40B0754A#32
  | 86 => 0x3F621F70#32
  | 87 => 0x3E349C26#32
  | 88 => 0x3DD5B195#32
  | 89 => 0x400FCCE2#32
  | 90 => 0xBDEC9FA2#32
  | 91 => 0x403FD43A#32
  | 92 => 0x3F8CD752#32
  | 93 => 0x3FF29AD8#32
  | 94 => 0xBF4DBD8E#32
  | 95 => 0x3F6357BE#32
  | 96 => 0xBF441079#32
  | 97 => 0x405651B6#32
  | 98 => 0xBF107300#32
  | 99 => 0x3FD162A4#32
  | 100 => 0xBC6ED7A8#32
  | 101 => 0x408A8A47#32
  | 102 => 0x3F11AC73#32
  | 103 => 0xBF6700D0#32
  | 104 => 0x3D518B6D#32
  | 105 => 0xBF046511#32
  | 106 => 0xBF91008B#32
  | 107 => 0x3F905522#32
  | 108 => 0x404D042E#32
  | 109 => 0xBF0E2A29#32
  | 110 => 0xBE77C65A#32
  | 111 => 0x3F8FA8DB#32
  | 112 => 0xBE896169#32
  | 113 => 0x3D081F6F#32
  | 114 => 0xBF0E9217#32
  | 115 => 0x3FF4DEF2#32
  | 116 => 0x3DBB4303#32
  | 117 => 0xBD141FA4#32
  | 118 => 0x3FB1383E#32
  | 119 => 0xBF135857#32
  | 120 => 0x4000FB2C#32
  | 121 => 0x3F246E92#32
  | 122 => 0xBF4A3603#32
  | 123 => 0x3F2B2002#32
  | 124 => 0x4014D68D#32
  | 125 => 0x3FA10FA3#32
  | 126 => 0x3FF5BB63#32
  | 127 => 0x3FEF2FF6#32
  | _ => 0#32

noncomputable abbrev lit0t0_237 (i : Nat) : BitVec 32 := match i % 128 with
  | 0 => 0x400A4623#32
  | 1 => 0x3E727916#32
  | 2 => 0x3FE63880#32
  | 3 => 0xBEEFE57A#32
  | 4 => 0x3F2B9308#32
  | 5 => 0xBF5AF02C#32
  | 6 => 0x3F349450#32
  | 7 => 0xBE48BA13#32
  | 8 => 0x3FF98879#32
  | 9 => 0x3F8A75B5#32
  | 10 => 0x402DAC1D#32
  | 11 => 0xBE908AD4#32
  | 12 => 0x400207C1#32
  | 13 => 0x3F78FE9D#32
  | 14 => 0xBE978BE1#32
  | 15 => 0x3DD176E9#32
  | 16 => 0x3F2C5911#32
  | 17 => 0x40030936#32
  | 18 => 0x3E08DA02#32
  | 19 => 0x3F901EE1#32
  | 20 => 0x3F42C6E4#32
  | 21 => 0xBF416B9D#32
  | 22 => 0xBF381219#32
  | 23 => 0xBF7DCEA9#32
  | 24 => 0x401E5180#32
  | 25 => 0xBE780294#32
  | 26 => 0xBF111332#32
  | 27 => 0xBE2CE1A2#32
  | 28 => 0x3F96D204#32
  | 29 => 0x3F377041#32
  | 30 => 0x3F0DFEBD#32
  | 31 => 0x3FD9EFA3#32
  | 32 => 0xBEA13A93#32
  | 33 => 0x3F9B2B6D#32
  | 34 => 0x3F5EE9C0#32
  | 35 => 0x3EB3B4F2#32
  | 36 => 0xBE3FC367#32
  | 37 => 0xBDEC47E0#32
  | 38 => 0xBF1E49F9#32
  | 39 => 0x3B4D281F#32
  | 40 => 0x3F755F64#32
  | 41 => 0xBE730E8D#32
  | 42 => 0x3ECAE87C#32
  | 43 => 0xBF0FA6C0#32
  | 44 => 0x3E3EAA83#32
  | 45 => 0xBF360A79#32
  | 46 => 0x3E79FB27#32
  | 47 => 0xBF5D5D58#32
  | 48 => 0x3D57526E#32
  | 49 => 0x3FAC56CA#32
  | 50 => 0x3FB15A2D#32
  | 51 => 0x3E081654#32
  | 52 => 0x3E880340#32
  | 53 => 0x4003E43C#32
  | 54 => 0x3E5F4B37#32
  | 55 => 0xBFBAEF6A#32
  | 56 => 0x3F0B5732#32
  | 57 => 0xBF594CE1#32
  | 58 => 0xBF87DBDA#32
  | 59 => 0xBF093F70#32
  | 60 => 0xBD46CAF2#32
  | 61 => 0x3F2D9EAB#32
  | 62 => 0xBF58612B#32
  | 63 => 0x3F2065EB#32
  | 64 => 0x3F80F977#32
  | 65 => 0xBE3E58E3#32
  | 66 => 0x3F91BBE2#32
  | 67 => 0xBF27A761#32
  | 68 => 0xBE92BD8C#32
  | 69 => 0x3ED4F65E#32
  | 70 => 0x3E8E1D3E#32
  | 71 => 0x3F14F604#32
  | 72 => 0x401DC12C#32
  | 73 => 0x3F967C27#32
  | 74 => 0x3ED91D83#32
  | 75 => 0x3D061A05#32
  | 76 => 0x4095F6C6#32
  | 77 => 0xBF19ACE7#32
  | 78 => 0xBF32334B#32
  | 79 => 0x3EAD6800#32
  | 80 => 0xBF285BD5#32
  | 81 => 0x3F4906EA#32
  | 82 => 0x3E3777D5#32
  | 83 => 0x3F026775#32
  | 84 => 0x3F18D07B#32
  | 85 => 0xBF04BF42#32
  | 86 => 0x3FD98F0E#32
  | 87 => 0xBF7D0588#32
  | 88 => 0xBF151FCE#32
  | 89 => 0x3F1CE2F1#32
  | 90 => 0xBF3119B5#32
  | 91 => 0x400336B4#32
  | 92 => 0xBEE513D2#32
  | 93 => 0xBF259D14#32
  | 94 => 0xBF29A91E#32
  | 95 => 0xBF0381CD#32
  | 96 => 0x4076125E#32
  | 97 => 0x406A5DE5#32
  | 98 => 0xBE44831F#32
  | 99 => 0xBFA4CA37#32
  | 100 => 0x3D809140#32
  | 101 => 0xBF3BF461#32
  | 102 => 0x3FBBD9B3#32
  | 103 => 0x3F8A25DA#32
  | 104 => 0x3FA11F63#32
  | 105 => 0x3FDBF92B#32
  | 106 => 0x3FE05900#32
  | 107 => 0x3CFDB25B#32
  | 108 => 0x3EC65171#32
  | 109 => 0x3EC4E4D6#32
  | 110 => 0x3EA09C77#32
  | 111 => 0x3E29A982#32
  | 112 => 0x3CE07888#32
  | 113 => 0x3F80BED9#32
  | 114 => 0xBE1C1E33#32
  | 115 => 0x3F775DE0#32
  | 116 => 0x3FA01F62#32
  | 117 => 0x3FA92925#32
  | 118 => 0xBEA02FBE#32
  | 119 => 0x3EA820E3#32
  | 120 => 0x3EBE0402#32
  | 121 => 0x40AD5DF1#32
  | 122 => 0xBDC9E55E#32
  | 123 => 0x3FEC571D#32
  | 124 => 0xBE52C6CF#32
  | 125 => 0x3F5CE66B#32
  | 126 => 0x3DD85F07#32
  | 127 => 0x3FA72975#32
  | _ => 0#32

noncomputable abbrev lit0t0_238 (i : Nat) : BitVec 32 := match i % 128 with
  | 0 => 0x40AFD31A#32
  | 1 => 0x3F297031#32
  | 2 => 0xBF14E8EA#32
  | 3 => 0x3FCA9225#32
  | 4 => 0xBC490012#32
  | 5 => 0x3F0C96CE#32
  | 6 => 0x3F1DB265#32
  | 7 => 0xBDA2BCFA#32
  | 8 => 0x40128500#32
  | 9 => 0xBFBC891D#32
  | 10 => 0x4055363A#32
  | 11 => 0x3F433533#32
  | 12 => 0x3F2CE10B#32
  | 13 => 0xBEB654CA#32
  | 14 => 0x3E5E477A#32
  | 15 => 0xBEBDC4CC#32
  | 16 => 0xBF88C0A6#32
  | 17 => 0x4078C7F6#32
  | 18 => 0x3ECCAB88#32
  | 19 => 0x403FEFCD#32
  | 20 => 0x3F59BD46#32
  | 21 => 0x3F528081#32
  | 22 => 0xBF4AAF60#32
  | 23 => 0xBF14F7F8#32
  | 24 => 0x3F6C0A48#32
  | 25 => 0xBF267D53#32
  | 26 => 0xBFAC4B13#32
  | 27 => 0xBE851027#32
  | 28 => 0x4002E7F5#32
  | 29 => 0xBD32AAA8#32
  | 30 => 0x3FB87EEF#32
  | 31 => 0x3EC2642E#32
  | 32 => 0x3E806A59#32
  | 33 => 0xBDCEB552#32
  | 34 => 0xBED2DD88#32
  | 35 => 0xBCEB607D#32
  | 36 => 0x3FDA7B1E#32
  | 37 => 0x3FB62207#32
  | 38 => 0xBF507051#32
  | 39 => 0xBF518743#32
  | 40 => 0xBF064D1E#32
  | 41 => 0x3F91C98F#32
  | 42 => 0x3FDB790D#32
  | 43 => 0xBF0AA90C#32
  | 44 => 0x3FCC0A9B#32
  | 45 => 0x3E4B2BC5#32
  | 46 => 0x3E04B756#32
  | 47 => 0x3F5901E7#32
  | 48 => 0x3EEE9BAD#32
  | 49 => 0xBF82E19D#32
  | 50 => 0x3F6996FB#32
  | 51 => 0xBF706C07#32
  | 52 => 0x3EF5B9F6#32
  | 53 => 0x40126C97#32
  | 54 => 0x3F890710#32
  | 55 => 0xBE888071#32
  | 56 => 0x3E1DF54A#32
  | 57 => 0xBFDED834#32
  | 58 => 0x3F3AA0D6#32
  | 59 => 0xBE9874A0#32
  | 60 => 0x4027A160#32
  | 61 => 0xBEE95413#32
  | 62 => 0xBF732FDA#32
  | 63 => 0xBFC37382#32
  | 64 => 0xBF173373#32
  | 65 => 0x403EA62C#32
  | 66 => 0xBF95755C#32
  | 67 => 0x3F9BCF2B#32
  | 68 => 0x40186C72#32
  | 69 => 0xBEA147E8#32
  | 70 => 0x3F9DB1F5#32
  | 71 => 0x3F9610C5#32
  | 72 => 0x3E2CE1CB#32
  | 73 => 0x3FAD9D59#32
  | 74 => 0x40458FCC#32
  | 75 => 0x401BF186#32
  | 76 => 0x3E55A094#32
  | 77 => 0x3E451A24#32
  | 78 => 0x403DDDAD#32
  | 79 => 0x3F263B02#32
  | 80 => 0x3FA6248C#32
  | 81 => 0xBF429F9D#32
  | 82 => 0x3FC46F21#32
  | 83 => 0xBF452EB3#32
  | 84 => 0x40123ECF#32
  | 85 => 0x3F08AB62#32
  | 86 => 0x3F9A6C1C#32
  | 87 => 0xBF176484#32
  | 88 => 0x401942B3#32
  | 89 => 0xBE056F40#32
  | 90 => 0x4031E751#32
  | 91 => 0x3F1F968C#32
  | 92 => 0x3F39D0A5#32
  | 93 => 0x3F681DDC#32
  | 94 => 0x3EFA06D4#32
  | 95 => 0x3CE2F42E#32
  | 96 => 0xBF70068D#32
  | 97 => 0x3F4A87AB#32
  | 98 => 0xBE30321D#32
  | 99 => 0x3FC44CE7#32
  | 100 => 0xBF9C9BB3#32
  | 101 => 0x40363A6B#32
  | 102 => 0xBEE8E598#32
  | 103 => 0xBF628430#32
  | 104 => 0x3F5F6A1C#32
  | 105 => 0xBF8E9F40#32
  | 106 => 0xBF4B428D#32
  | 107 => 0xBE8A06DB#32
  | 108 => 0xBE1675D0#32
  | 109 => 0x3ED90CC0#32
  | 110 => 0xBF39A7D5#32
  | 111 => 0xBF0A322B#32
  | 112 => 0xBEE99C15#32
  | 113 => 0xBF45013B#32
  | 114 => 0x40816C79#32
  | 115 => 0xBF0F6C3C#32
  | 116 => 0x3F22B03B#32
  | 117 => 0x3FDE73DC#32
  | 118 => 0x3F258DF7#32
  | 119 => 0xBEBA2DF4#32
  | 120 => 0xBF77F6A4#32
  | 121 => 0x3FB9DA89#32
  | 122 => 0x3F2331F3#32
  | 123 => 0xBED90F9C#32
  | 124 => 0xBD1F0798#32
  | 125 => 0x3F406AE9#32
  | 126 => 0x40411B70#32
  | 127 => 0x3FA67438#32
  | _ => 0#32

noncomputable abbrev lit0t0_239 (i : Nat) : BitVec 32 := match i % 128 with
  | 0 => 0x3F532F0E#32
  | 1 => 0x3F368792#32
  | 2 => 0xBFAA047B#32
  | 3 => 0xBF381F50#32
  | 4 => 0x3F5F0781#32
  | 5 => 0xBF821558#32
  | 6 => 0xBFA0D8C5#32
  | 7 => 0xBF8D318E#32
  | 8 => 0x402535BA#32
  | 9 => 0xBF919A08#32
  | 10 => 0xBE9E7F3D#32
  | 11 => 0x40BB6F7A#32
  | 12 => 0x3FCA4015#32
  | 13 => 0x3F7D84BD#32
  | 14 => 0x3FD36E0B#32
  | 15 => 0xBF1BB674#32
  | 16 => 0x3F87193A#32
  | 17 => 0x3F51DD58#32
  | 18 => 0xBF9D33EC#32
  | 19 => 0xBDDBE93A#32
  | 20 => 0x3F21B818#32
  | 21 => 0xBEC814BE#32
  | 22 => 0xBF65468F#32
  | 23 => 0xBFA56B48#32
  | 24 => 0x4027A72C#32
  | 25 => 0x3EE5426C#32
  | 26 => 0x3F82DC51#32
  | 27 => 0x3E87FD1A#32
  | 28 => 0x3ECE39A4#32
  | 29 => 0x3FF53484#32
  | 30 => 0x3FA8EE05#32
  | 31 => 0x3F1C3FD3#32
  | 32 => 0xBD8392E9#32
  | 33 => 0x3E350E4D#32
  | 34 => 0xBE1F6AB0#32
  | 35 => 0x40139818#32
  | 36 => 0x3F529473#32
  | 37 => 0x3D941BB3#32
  | 38 => 0x3F34434A#32
  | 39 => 0x3FAC3366#32
  | 40 => 0x3F5A7A8D#32
  | 41 => 0x4066C7DD#32
  | 42 => 0x3ED51D2B#32
  | 43 => 0x3D617A73#32
  | 44 => 0x4001C5D1#32
  | 45 => 0xBF54D2B6#32
  | 46 => 0x3EFA5EE1#32
  | 47 => 0xBE0F8630#32
  | 48 => 0xBEB657E5#32
  | 49 => 0x3FFCBC0A#32
  | 50 => 0x400560FA#32
  | 51 => 0xBC1C5BE4#32
  | 52 => 0x3F9B410E#32
  | 53 => 0x3F88D9C0#32
  | 54 => 0xBE37B80D#32
  | 55 => 0x3F6D581B#32
  | 56 => 0xBF50D2CA#32
  | 57 => 0xBE6EC0CF#32
  | 58 => 0x4085D803#32
  | 59 => 0x3FFDC576#32
  | 60 => 0xBEC8D72A#32
  | 61 => 0x3F70A891#32
  | 62 => 0xBF88FE90#32
  | 63 => 0xBFFB8D60#32
  | 64 => 0x3F2CE809#32
  | 65 => 0x3FFF791A#32
  | 66 => 0xBE6E8D45#32
  | 67 => 0x3FE51106#32
  | 68 => 0xBE38427D#32
  | 69 => 0xBF19AB71#32
  | 70 => 0x3FD8D12C#32
  | 71 => 0x400FDB92#32
  | 72 => 0x3EFF39AC#32
  | 73 => 0x3EF9356A#32
  | 74 => 0xBF543A0E#32
  | 75 => 0x3F62CA07#32
  | 76 => 0x3C90F9BA#32
  | 77 => 0x4015105C#32
  | 78 => 0x3F67405F#32
  | 79 => 0x3F89F625#32
  | 80 => 0x3F0D29F9#32
  | 81 => 0x3E7E21A2#32
  | 82 => 0x3DBC8B0C#32
  | 83 => 0xBE901218#32
  | 84 => 0x3F866CE8#32
  | 85 => 0xBDDC9AA6#32
  | 86 => 0xBF50C29D#32
  | 87 => 0x400CC5A1#32
  | 88 => 0x407A90EE#32
  | 89 => 0x3FA6B373#32
  | 90 => 0xBE157783#32
  | 91 => 0xBEA8AC84#32
  | 92 => 0xBF008656#32
  | 93 => 0xBE0B415E#32
  | 94 => 0xBF196629#32
  | 95 => 0x3F07DB30#32
  | 96 => 0xBD93D39E#32
  | 97 => 0xBF245548#32
  | 98 => 0x3F8B9571#32
  | 99 => 0xBDB8C0F2#32
  | 100 => 0x402A5867#32
  | 101 => 0x3FA6BD7D#32
  | 102 => 0x3EF2EF24#32
  | 103 => 0x3D820BDB#32
  | 104 => 0x40082E18#32
  | 105 => 0x3DDF827C#32
  | 106 => 0x3F8D6CA2#32
  | 107 => 0x3FB2B745#32
  | 108 => 0x3EBE9F6E#32
  | 109 => 0xBF12EAAC#32
  | 110 => 0x3EADD348#32
  | 111 => 0x40424A1E#32
  | 112 => 0xBE872437#32
  | 113 => 0x3F8A409D#32
  | 114 => 0x40815175#32
  | 115 => 0x4012AFE1#32
  | 116 => 0x3FF1DF17#32
  | 117 => 0xBE2B0F3C#32
  | 118 => 0x4048F750#32
  | 119 => 0xBF06862D#32
  | 120 => 0x405879C0#32
  | 121 => 0xBFB67CBC#32
  | 122 => 0xBDE91BD9#32
  | 123 => 0x4041FA46#32
  | 124 => 0xBF61A332#32
  | 125 => 0x3D743462#32
  | 126 => 0xBF1FFF20#32
  | 127 => 0xBFB58D77#32
  | _ => 0#32

noncomputable abbrev lit0t0_240 (i : Nat) : BitVec 32 := match i % 128 with
  | 0 => 0x3F975ED5#32
  | 1 => 0x3CE8604F#32
  | 2 => 0x3FCFD442#32
  | 3 => 0xBEB673F7#32
  | 4 => 0x3ED519A3#32
  | 5 => 0xBEFC926C#32
  | 6 => 0x3FCF2F0B#32
  | 7 => 0x3FC9A8D6#32
  | 8 => 0x3F2BFDEE#32
  | 9 => 0x3F31F8B7#32
  | 10 => 0x3F62A736#32
  | 11 => 0x3F406FCC#32
  | 12 => 0x3F2A719D#32
  | 13 => 0xBD9945B6#32
  | 14 => 0x3E0ADF74#32
  | 15 => 0x3F48B90F#32
  | 16 => 0x3F96A6A2#32
  | 17 => 0xBE96A0E9#32
  | 18 => 0xBF1E95D1#32
  | 19 => 0xBE2A7A1C#32
  | 20 => 0x3F6BCD76#32
  | 21 => 0x3EB77640#32
  | 22 => 0x40142464#32
  | 23 => 0x3F442D5C#32
  | 24 => 0xBE83EB53#32
  | 25 => 0x3F48DE0C#32
  | 26 => 0x3E931B23#32
  | 27 => 0x3FA1B216#32
  | 28 => 0x3EAE5036#32
  | 29 => 0xBEFBE23A#32
  | 30 => 0x3EB60673#32
  | 31 => 0x3DE37269#32
  | 32 => 0xBE9B14EA#32
  | 33 => 0x4042691D#32
  | 34 => 0x3F405921#32
  | 35 => 0xBFA1DF0F#32
  | 36 => 0xBE2B24A0#32
  | 37 => 0xBF69D854#32
  | 38 => 0x3F57A628#32
  | 39 => 0xBF132C67#32
  | 40 => 0xBF64D72C#32
  | 41 => 0xBE8F214F#32
  | 42 => 0x3F07DB56#32
  | 43 => 0x403A12FE#32
  | 44 => 0x4002633B#32
  | 45 => 0xBE3D3A8A#32
  | 46 => 0x3E9DC5F4#32
  | 47 => 0x3FF9EB49#32
  | 48 => 0x3F58B817#32
  | 49 => 0x3DB7F8B7#32
  | 50 => 0x3D9C8579#32
  | 51 => 0xBF4CE7BF#32
  | 52 => 0x3F9B13BD#32
  | 53 => 0xBF5E9745#32
  | 54 => 0x3E8498B8#32
  | 55 => 0xBDB6CFCE#32
  | 56 => 0x3EB411B6#32
  | 57 => 0x40150938#32
  | 58 => 0x3F54CB64#32
  | 59 => 0x401319DA#32
  | 60 => 0x3FB1B3B8#32
  | 61 => 0x4017BD66#32
  | 62 => 0xBD29B5C4#32
  | 63 => 0x4064F0F9#32
  | 64 => 0x408EFDF4#32
  | 65 => 0xBCE593BB#32
  | 66 => 0x3FAE712E#32
  | 67 => 0x3FFB9C49#32
  | 68 => 0xBE224043#32
  | 69 => 0x3F782333#32
  | 70 => 0xBF89B51C#32
  | 71 => 0xBF647E73#32
  | 72 => 0x3E5FB87C#32
  | 73 => 0x3F91BFB6#32
  | 74 => 0x3FEF9EAA#32
  | 75 => 0x4042B1D5#32
  | 76 => 0x3FE412C0#32
  | 77 => 0x3F13D1A2#32
  | 78 => 0x3F2075B7#32
  | 79 => 0xBF7F221E#32
  | 80 => 0x3EF7C3BA#32
  | 81 => 0x400285C9#32
  | 82 => 0x3FDA93D4#32
  | 83 => 0x3F33CC8C#32
  | 84 => 0x3F515F3A#32
  | 85 => 0xBEA05072#32
  | 86 => 0xBECE2503#32
  | 87 => 0x3EE669EC#32
  | 88 => 0x3E24E748#32
  | 89 => 0xBE99D361#32
  | 90 => 0xBF6F7316#32
  | 91 => 0x3F34A921#32
  | 92 => 0x40513923#32
  | 93 => 0xBB2EE435#32
  | 94 => 0xBE6A9E4D#32
  | 95 => 0x3FACF7F9#32
  | 96 => 0x3F772D50#32
  | 97 => 0x3FAC2E89#32
  | 98 => 0xBEF6DC6C#32
  | 99 => 0x40757A41#32
  | 100 => 0x3F315BC3#32
  | 101 => 0x3E5E4FA6#32
  | 102 => 0xBED986F9#32
  | 103 => 0x3EB6C17F#32
  | 104 => 0x3E8487CE#32
  | 105 => 0x3C68C8DA#32
  | 106 => 0x3C2D8A75#32
  | 107 => 0x3EEC3CAB#32
  | 108 => 0x3F5485C3#32
  | 109 => 0x4075143B#32
  | 110 => 0xBF48B423#32
  | 111 => 0xBEB4DC80#32
  | 112 => 0xBEE65A48#32
  | 113 => 0x3E903C72#32
  | 114 => 0x3F9CAAF3#32
  | 115 => 0x408D29B1#32
  | 116 => 0x3F0BD870#32
  | 117 => 0x400CB5CA#32
  | 118 => 0x3F03A6DC#32
  | 119 => 0x3D6A2597#32
  | 120 => 0x3E9BD198#32
  | 121 => 0xBF59FDF5#32
  | 122 => 0x3D3E8098#32
  | 123 => 0xBF9279AC#32
  | 124 => 0xBF2998E4#32
  | 125 => 0xBDD9DF4B#32
  | 126 => 0x3F260154#32
  | 127 => 0xBED3262E#32
  | _ => 0#32

noncomputable abbrev lit0t0_241 (i : Nat) : BitVec 32 := match i % 128 with
  | 0 => 0x3F946A4A#32
  | 1 => 0x3EE4C212#32
  | 2 => 0xBF4EBACA#32
  | 3 => 0x3DB999C2#32
  | 4 => 0xBEE60FF6#32
  | 5 => 0x3EA13B03#32
  | 6 => 0x3EAE0096#32
  | 7 => 0xBF3D8437#32
  | 8 => 0x3F4D6562#32
  | 9 => 0x3F3228E5#32
  | 10 => 0xBF1B5945#32
  | 11 => 0x3F72CF0A#32
  | 12 => 0xB8D37D45#32
  | 13 => 0x3F0E7D56#32
  | 14 => 0x3FBB5EED#32
  | 15 => 0x3E3640B3#32
  | 16 => 0x3F48D0CE#32
  | 17 => 0xBEE38C5C#32
  | 18 => 0x3EF1AE8A#32
  | 19 => 0x3FF72ECD#32
  | 20 => 0x3F300E8F#32
  | 21 => 0x3EFF31A2#32
  | 22 => 0xBFABB750#32
  | 23 => 0x3E82735A#32
  | 24 => 0xBED97B0C#32
  | 25 => 0x400E7E6E#32
  | 26 => 0x401BDFCF#32
  | 27 => 0xBE5CE678#32
  | 28 => 0xBF84DCE7#32
  | 29 => 0x402DA836#32
  | 30 => 0x4013D044#32
  | 31 => 0x3EAEB881#32
  | 32 => 0xBF432E26#32
  | 33 => 0x40144ED8#32
  | 34 => 0x402984D4#32
  | 35 => 0xBECAFAFC#32
  | 36 => 0x3F6A3314#32
  | 37 => 0x3F527245#32
  | 38 => 0xBF015397#32
  | 39 => 0x3F30DEDA#32
  | 40 => 0xBF3341EB#32
  | 41 => 0x3E459198#32
  | 42 => 0x40064C78#32
  | 43 => 0xBE45F770#32
  | 44 => 0x3F4059ED#32
  | 45 => 0x40077438#32
  | 46 => 0x3EC97AA3#32
  | 47 => 0x3E906819#32
  | 48 => 0x3EF9C298#32
  | 49 => 0x402FF511#32
  | 50 => 0x4042B2BC#32
  | 51 => 0x3F652B11#32
  | 52 => 0x400B7804#32
  | 53 => 0x3FA5EBFD#32
  | 54 => 0xBF1FA465#32
  | 55 => 0xBF0F55F4#32
  | 56 => 0x3E64FA5D#32
  | 57 => 0x40539C96#32
  | 58 => 0x4065F685#32
  | 59 => 0x40695497#32
  | 60 => 0xBEEBC8DA#32
  | 61 => 0x3F7A37E1#32
  | 62 => 0xBF480E55#32
  | 63 => 0xBF38D9D7#32
  | 64 => 0xBFC0D6D6#32
  | 65 => 0xBF6CF8D0#32
  | 66 => 0xBFB84941#32
  | 67 => 0x3DE4F635#32
  | 68 => 0x3FCB0F4F#32
  | 69 => 0xBEF19BC2#32
  | 70 => 0xBE966B9F#32
  | 71 => 0x3DA412FA#32
  | 72 => 0xBF37DC1E#32
  | 73 => 0x402AC6E1#32
  | 74 => 0x3E1AA207#32
  | 75 => 0x400EBF63#32
  | 76 => 0x3F2EBD39#32
  | 77 => 0xBF9D5F57#32
  | 78 => 0xBF878159#32
  | 79 => 0xBE0BA0E6#32
  | 80 => 0x3E208F0F#32
  | 81 => 0xBCF2A2BA#32
  | 82 => 0xBF824DA3#32
  | 83 => 0xBFDF6323#32
  | 84 => 0xBEDF8C18#32
  | 85 => 0x3F0654EC#32
  | 86 => 0xBD55E4F2#32
  | 87 => 0xBE3542B3#32
  | 88 => 0x40C9E6A2#32
  | 89 => 0x3F35CF94#32
  | 90 => 0x3EAFE74F#32
  | 91 => 0xBDA05C31#32
  | 92 => 0xBF75216E#32
  | 93 => 0xBE575089#32
  | 94 => 0xBF1EEB9D#32
  | 95 => 0xBFCB3B6F#32
  | 96 => 0xBE49B17B#32
  | 97 => 0xBF275F8F#32
  | 98 => 0xBF99B433#32
  | 99 => 0x3E2B4F96#32
  | 100 => 0x40043FAE#32
  | 101 => 0x3EFFDEFA#32
  | 102 => 0xBD8E421D#32
  | 103 => 0x406E5BF5#32
  | 104 => 0xBF33FE03#32
  | 105 => 0x3E9F6790#32
  | 106 => 0x3EE1E739#32
  | 107 => 0xBF247907#32
  | 108 => 0xBF180B23#32
  | 109 => 0x3FE20A5E#32
  | 110 => 0x40AEAA6A#32
  | 111 => 0x3F977916#32
  | 112 => 0xBF6371DF#32
  | 113 => 0x3E8008F0#32
  | 114 => 0xBE9153D3#32
  | 115 => 0xBE917EFB#32
  | 116 => 0x3FADED1E#32
  | 117 => 0xBE4DECE9#32
  | 118 => 0xBEE15510#32
  | 119 => 0x3F955868#32
  | 120 => 0x3F00CD10#32
  | 121 => 0xBF04FFBE#32
  | 122 => 0x4010DCE2#32
  | 123 => 0xBF03EC09#32
  | 124 => 0x3E4B7A2B#32
  | 125 => 0x3E04ADA8#32
  | 126 => 0x4041AD6B#32
  | 127 => 0x3F4449BF#32
  | _ => 0#32

noncomputable abbrev lit0t0_242 (i : Nat) : BitVec 32 := match i % 128 with
  | 0 => 0x3FE2DD25#32
  | 1 => 0x3FE62A06#32
  | 2 => 0x4022997C#32
  | 3 => 0x3E6D5E45#32
  | 4 => 0xBE4F1564#32
  | 5 => 0xBDBE3744#32
  | 6 => 0x3F4EE111#32
  | 7 => 0xBF96A9CD#32
  | 8 => 0xBEE405F8#32
  | 9 => 0xBD06A305#32
  | 10 => 0x4070ACEE#32
  | 11 => 0xBF4BA871#32
  | 12 => 0x40C109ED#32
  | 13 => 0x3E28AEAC#32
  | 14 => 0xBF182A56#32
  | 15 => 0x3F8C1CE3#32
  | 16 => 0xBF65D4E8#32
  | 17 => 0x3FD643E6#32
  | 18 => 0x400FB284#32
  | 19 => 0x3F9D476F#32
  | 20 => 0x3E74EE29#32
  | 21 => 0x3EF94502#32
  | 22 => 0x3F4B547F#32
  | 23 => 0x3F3CD0B0#32
  | 24 => 0x3FC69216#32
  | 25 => 0xBECD8852#32
  | 26 => 0x3F83BF06#32
  | 27 => 0x3F1B4ED6#32
  | 28 => 0xBFA17F25#32
  | 29 => 0x3F20EA8C#32
  | 30 => 0xBF9E903D#32
  | 31 => 0xBF995A52#32
  | 32 => 0xBF3F0C7F#32
  | 33 => 0x3EA1E390#32
  | 34 => 0x3E1D90E0#32
  | 35 => 0xBE3FEB91#32
  | 36 => 0xBD187CA4#32
  | 37 => 0x3FA7FAD9#32
  | 38 => 0x3F812C28#32
  | 39 => 0xBED7E151#32
  | 40 => 0xBD851D36#32
  | 41 => 0xBFB60B87#32
  | 42 => 0xBEB49910#32
  | 43 => 0x400E1370#32
  | 44 => 0x3FCCE34A#32
  | 45 => 0xBF71F04A#32
  | 46 => 0x3FB7EF15#32
  | 47 => 0x3EA257AD#32
  | 48 => 0x3FF3C5E9#32
  | 49 => 0x3FCE1775#32
  | 50 => 0x3F7159B6#32
  | 51 => 0x3FD50E11#32
  | 52 => 0x40274915#32
  | 53 => 0xBF9F59B8#32
  | 54 => 0x3E05EE8B#32
  | 55 => 0x3E983FE7#32
  | 56 => 0x40339B04#32
  | 57 => 0x3E53B5A7#32
  | 58 => 0x3F0AF52F#32
  | 59 => 0xBED303FA#32
  | 60 => 0x3E2262C3#32
  | 61 => 0x3EEC9A5A#32
  | 62 => 0x40488D54#32
  | 63 => 0x3FC7ECBC#32
  | 64 => 0x3FA7BE83#32
  | 65 => 0x3F214005#32
  | 66 => 0x3FD424A2#32
  | 67 => 0x3F13DA79#32
  | 68 => 0x3C2EB193#32
  | 69 => 0xBEE43EAA#32
  | 70 => 0x3F4B7481#32
  | 71 => 0x40755E44#32
  | 72 => 0xBF4754A5#32
  | 73 => 0x3F300814#32
  | 74 => 0x3F5A8DFD#32
  | 75 => 0x3C607C69#32
  | 76 => 0x3F9FDCFC#32
  | 77 => 0x3E41A9C8#32
  | 78 => 0x3F92AE66#32
  | 79 => 0x3E2A1267#32
  | 80 => 0xBE9C8927#32
  | 81 => 0xBF855338#32
  | 82 => 0xBE3FA4C6#32
  | 83 => 0x40170854#32
  | 84 => 0xBB1EC0BC#32
  | 85 => 0xBCCA188D#32
  | 86 => 0x405E9594#32
  | 87 => 0x3FF5076B#32
  | 88 => 0x3CD64DA0#32
  | 89 => 0x3E5074BD#32
  | 90 => 0x3EAA7DF2#32
  | 91 => 0x3F80D6F7#32
  | 92 => 0x3EED0B7C#32
  | 93 => 0x3F300D8D#32
  | 94 => 0x4021751F#32
  | 95 => 0x3FB23D40#32
  | 96 => 0x3F9B6455#32
  | 97 => 0x3DF58EBA#32
  | 98 => 0x3F669F20#32
  | 99 => 0x3F0A713E#32
  | 100 => 0xBE6B7953#32
  | 101 => 0x3E9F2CF2#32
  | 102 => 0x3ED86FF4#32
  | 103 => 0x3F158805#32
  | 104 => 0x3F44460D#32
  | 105 => 0xBE12DF1C#32
  | 106 => 0x3E4C50F7#32
  | 107 => 0x401A2024#32
  | 108 => 0xBE916FF9#32
  | 109 => 0x3F31E994#32
  | 110 => 0xBE7B8A2F#32
  | 111 => 0xBE4A9C86#32
  | 112 => 0xBF1B8A54#32
  | 113 => 0xBED6B3FF#32
  | 114 => 0xBF9635AA#32
  | 115 => 0x3E2E03CA#32
  | 116 => 0x3F589BB4#32
  | 117 => 0xBE99172C#32
  | 118 => 0xBE26EC03#32
  | 119 => 0x3EC511C3#32
  | 120 => 0x3FECD216#32
  | 121 => 0x3EA0B51B#32
  | 122 => 0xBEF7FAF6#32
  | 123 => 0xBFADB101#32
  | 124 => 0x3F9AC500#32
  | 125 => 0xBDDC6E08#32
  | 126 => 0xBF99760E#32
  | 127 => 0xBE915D30#32
  | _ => 0#32

noncomputable abbrev lit0t0_243 (i : Nat) : BitVec 32 := match i % 128 with
  | 0 => 0x3E99286F#32
  | 1 => 0x3F8B48B5#32
  | 2 => 0xBD422BD5#32
  | 3 => 0xBEE62DD4#32
  | 4 => 0xBFC62060#32
  | 5 => 0xBF7AF028#32
  | 6 => 0xBF848215#32
  | 7 => 0x3EBA83E6#32
  | 8 => 0xBF132C52#32
  | 9 => 0x3EDDA605#32
  | 10 => 0xBFECE6FE#32
  | 11 => 0x3F52FE13#32
  | 12 => 0x3F495855#32
  | 13 => 0xBF74D85C#32
  | 14 => 0x3E503FC1#32
  | 15 => 0x3D276CA7#32
  | 16 => 0xBEEDD8C9#32
  | 17 => 0xBF3D60DE#32
  | 18 => 0x3FCCBEC7#32
  | 19 => 0x3F89438F#32
  | 20 => 0x3F858048#32
  | 21 => 0xBDC7F769#32
  | 22 => 0x3F526900#32
  | 23 => 0xBE937E33#32
  | 24 => 0x3DE34158#32
  | 25 => 0xBEFA86CE#32
  | 26 => 0xBF00D700#32
  | 27 => 0x3F2DE0FE#32
  | 28 => 0xBF3426E7#32
  | 29 => 0x3F9053C8#32
  | 30 => 0xBD80CB20#32
  | 31 => 0x3F697BE2#32
  | 32 => 0x408F8D5C#32
  | 33 => 0x3E7164D9#32
  | 34 => 0x3E67E861#32
  | 35 => 0x40156A0D#32
  | 36 => 0x3DE1296E#32
  | 37 => 0x3FD0FB75#32
  | 38 => 0xBEFAE058#32
  | 39 => 0x40578919#32
  | 40 => 0xBE6117A5#32
  | 41 => 0x3F081D1F#32
  | 42 => 0x3ECDE8BE#32
  | 43 => 0xBF114592#32
  | 44 => 0xBF8DD9EF#32
  | 45 => 0x3EBAF0CD#32
  | 46 => 0x3FBD46A8#32
  | 47 => 0xBE91F6AD#32
  | 48 => 0x3EAD2DA7#32
  | 49 => 0x3F57AFD0#32
  | 50 => 0x3FE0F8EC#32
  | 51 => 0x3D37169B#32
  | 52 => 0xBE886863#32
  | 53 => 0xBEEA854B#32
  | 54 => 0x404D6AD5#32
  | 55 => 0xBF3BB093#32
  | 56 => 0xBF8DDC6A#32
  | 57 => 0xBDF75863#32
  | 58 => 0x3D1C7C57#32
  | 59 => 0xBEE451D8#32
  | 60 => 0xBF94959A#32
  | 61 => 0x3E31C46B#32
  | 62 => 0x3F494D13#32
  | 63 => 0xBDA42415#32
  | 64 => 0x403FEA68#32
  | 65 => 0x3FC7F137#32
  | 66 => 0x3FE5BC1C#32
  | 67 => 0x3F3E9CB3#32
  | 68 => 0xBF0E05EF#32
  | 69 => 0x3FC7150D#32
  | 70 => 0x3FCAEBAC#32
  | 71 => 0xBED1CD00#32
  | 72 => 0x3E233DBB#32
  | 73 => 0x3ED602AD#32
  | 74 => 0xBFA77F39#32
  | 75 => 0x3FBFFD20#32
  | 76 => 0x3F4F35A6#32
  | 77 => 0x4014A9EF#32
  | 78 => 0x3C289A53#32
  | 79 => 0x3F6D06E6#32
  | 80 => 0x400E9169#32
  | 81 => 0xBE065E60#32
  | 82 => 0xBFAF3E77#32
  | 83 => 0xBDAAD0CA#32
  | 84 => 0xBE0FCEDD#32
  | 85 => 0xBE642641#32
  | 86 => 0x3EF05530#32
  | 87 => 0x3EED533C#32
  | 88 => 0x3F2F0AA8#32
  | 89 => 0x403C1745#32
  | 90 => 0x3F98CE2A#32
  | 91 => 0x3FB31A58#32
  | 92 => 0x3F625199#32
  | 93 => 0x3F7017E3#32
  | 94 => 0xBF84F714#32
  | 95 => 0x3F84B886#32
  | 96 => 0x3F29569F#32
  | 97 => 0xBF97FA5A#32
  | 98 => 0x3F68DE3E#32
  | 99 => 0x403DD023#32
  | 100 => 0x3FD7CE03#32
  | 101 => 0x402076EA#32
  | 102 => 0x3F8CD2B0#32
  | 103 => 0x3FA2D071#32
  | 104 => 0x40A8A9F1#32
  | 105 => 0x3E6119AF#32
  | 106 => 0x3EDAC891#32
  | 107 => 0x401AF5E7#32
  | 108 => 0xBF4958B8#32
  | 109 => 0x3DEB4730#32
  | 110 => 0x4062F0EA#32
  | 111 => 0x3FF21743#32
  | 112 => 0xBE73B06E#32
  | 113 => 0x3ED5C932#32
  | 114 => 0x3F8E5300#32
  | 115 => 0xBEF2E9FE#32
  | 116 => 0x3E6AFCB1#32
  | 117 => 0x3E3A6D8E#32
  | 118 => 0xBF2B0033#32
  | 119 => 0x403AF5DF#32
  | 120 => 0xBF26C68E#32
  | 121 => 0xBF915321#32
  | 122 => 0xBE8AD744#32
  | 123 => 0x40046568#32
  | 124 => 0x402F3CCE#32
  | 125 => 0x3EAE5B2B#32
  | 126 => 0xBF6645DA#32
  | 127 => 0x3FDE1693#32
  | _ => 0#32

noncomputable abbrev lit0t0_244 (i : Nat) : BitVec 32 := match i % 128 with
  | 0 => 0x3FEBE3B1#32
  | 1 => 0xBE863053#32
  | 2 => 0x3FED692D#32
  | 3 => 0xBF2C4F67#32
  | 4 => 0xBE9209DD#32
  | 5 => 0x3F3ED078#32
  | 6 => 0x3EC1B44D#32
  | 7 => 0xBE25CE0D#32
  | 8 => 0x3F8DC756#32
  | 9 => 0x3F12675B#32
  | 10 => 0xBF2054B6#32
  | 11 => 0x3F885975#32
  | 12 => 0x3FE3AD00#32
  | 13 => 0xBF344868#32
  | 14 => 0xBEF365E6#32
  | 15 => 0x4014012F#32
  | 16 => 0xBDFEA9F8#32
  | 17 => 0x4022E3E2#32
  | 18 => 0x3EB460B7#32
  | 19 => 0x3F757432#32
  | 20 => 0xBF2CC430#32
  | 21 => 0xBF87C4E0#32
  | 22 => 0x400F187D#32
  | 23 => 0xBF3E83BD#32
  | 24 => 0x4069428C#32
  | 25 => 0xBDCB1B9F#32
  | 26 => 0xBF85F17C#32
  | 27 => 0x402A189C#32
  | 28 => 0x3F5F245C#32
  | 29 => 0x3FE08CF5#32
  | 30 => 0x3F706669#32
  | 31 => 0xBEB711EF#32
  | 32 => 0x3FBD182B#32
  | 33 => 0x3DE35B80#32
  | 34 => 0x3F7229D4#32
  | 35 => 0x3F7281E8#32
  | 36 => 0xBF2E8AE4#32
  | 37 => 0x3F855A50#32
  | 38 => 0x3E87907D#32
  | 39 => 0x402242E7#32
  | 40 => 0x3F29852C#32
  | 41 => 0x3E10E32A#32
  | 42 => 0xBF13E421#32
  | 43 => 0x3F9B3C46#32
  | 44 => 0x3F42A6FE#32
  | 45 => 0x3FB68397#32
  | 46 => 0xBF1D7368#32
  | 47 => 0x3F583B12#32
  | 48 => 0xBDEF686B#32
  | 49 => 0xBF391537#32
  | 50 => 0xBFA965F4#32
  | 51 => 0x40771CAA#32
  | 52 => 0xBEB0EA82#32
  | 53 => 0x3F314EDC#32
  | 54 => 0x3E544D7C#32
  | 55 => 0xBF13CA30#32
  | 56 => 0x3F8CD02E#32
  | 57 => 0x402F6D37#32
  | 58 => 0x3FCC195D#32
  | 59 => 0xBF7DA054#32
  | 60 => 0x4087F301#32
  | 61 => 0xBEF1F51F#32
  | 62 => 0xBF7BFBF3#32
  | 63 => 0x3F3A6DF9#32
  | 64 => 0x3FA0A084#32
  | 65 => 0xBF85F428#32
  | 66 => 0x3F189DAB#32
  | 67 => 0x3F713A20#32
  | 68 => 0xBE3E48B9#32
  | 69 => 0x3F8B15F2#32
  | 70 => 0x3FC8C944#32
  | 71 => 0x3FAAD8A8#32
  | 72 => 0xBF6A818C#32
  | 73 => 0xBEDFCC35#32
  | 74 => 0xBE8462A4#32
  | 75 => 0x3FC06424#32
  | 76 => 0x3DCEA21D#32
  | 77 => 0xBEFAA692#32
  | 78 => 0x407C6655#32
  | 79 => 0xBEA34BC2#32
  | 80 => 0x3FB5CF17#32
  | 81 => 0x3F205BB1#32
  | 82 => 0x3F6650CD#32
  | 83 => 0xBEB97C42#32
  | 84 => 0x3F284DEB#32
  | 85 => 0x3CB01DF1#32
  | 86 => 0x3F9144BF#32
  | 87 => 0x3FDB6096#32
  | 88 => 0xBE02F2FC#32
  | 89 => 0x3E575C9A#32
  | 90 => 0x3FB8FB7D#32
  | 91 => 0x3FA41EF2#32
  | 92 => 0xBEB010BA#32
  | 93 => 0x400E15B4#32
  | 94 => 0xBF24F2A7#32
  | 95 => 0x40CFD4B7#32
  | 96 => 0x3F47139A#32
  | 97 => 0x3DFF1E85#32
  | 98 => 0x3A999B09#32
  | 99 => 0x3E9DE98D#32
  | 100 => 0xBF12BDFC#32
  | 101 => 0xBF86C073#32
  | 102 => 0xBE6A147E#32
  | 103 => 0xBDD1869C#32
  | 104 => 0xBF3B21D7#32
  | 105 => 0xBF809395#32
  | 106 => 0x3F36FCE0#32
  | 107 => 0x3F9ABC05#32
  | 108 => 0x3EE78041#32
  | 109 => 0xBE8897DA#32
  | 110 => 0x3FD31AE6#32
  | 111 => 0x3FBBCE17#32
  | 112 => 0xBF0B6CAE#32
  | 113 => 0x3F425197#32
  | 114 => 0xBD6F9D0A#32
  | 115 => 0x3FA2A353#32
  | 116 => 0x3FB34B70#32
  | 117 => 0x402C6619#32
  | 118 => 0x4024D720#32
  | 119 => 0x3FBCCB85#32
  | 120 => 0x3EE9EE08#32
  | 121 => 0xBEF1AE4E#32
  | 122 => 0xBFB43F8F#32
  | 123 => 0xBE68A136#32
  | 124 => 0x3DEBF858#32
  | 125 => 0x402BABC4#32
  | 126 => 0x3DF67348#32
  | 127 => 0x3E2E5F84#32
  | _ => 0#32

noncomputable abbrev lit0t0_245 (i : Nat) : BitVec 32 := match i % 128 with
  | 0 => 0xBE29D367#32
  | 1 => 0x3EDBB152#32
  | 2 => 0x3F7BF01E#32
  | 3 => 0xBEBE32ED#32
  | 4 => 0xBF659B7E#32
  | 5 => 0xBF429FC4#32
  | 6 => 0xBF451C19#32
  | 7 => 0x3C9F1DAB#32
  | 8 => 0x40AB05A6#32
  | 9 => 0xBE37A734#32
  | 10 => 0xBD02559B#32
  | 11 => 0x401C1505#32
  | 12 => 0xBE083791#32
  | 13 => 0x40A52351#32
  | 14 => 0xBE6A2047#32
  | 15 => 0x3E517D1B#32
  | 16 => 0xBF27F6E1#32
  | 17 => 0x3F37C1A3#32
  | 18 => 0xBF1B7B25#32
  | 19 => 0xBD44BCBA#32
  | 20 => 0x3EEBCD3A#32
  | 21 => 0x3D53BE88#32
  | 22 => 0x3F2FCCE7#32
  | 23 => 0x3E712242#32
  | 24 => 0x3F9B1AC2#32
  | 25 => 0x3F05DF02#32
  | 26 => 0x3E7619FC#32
  | 27 => 0xBF876EC0#32
  | 28 => 0xBE3617CC#32
  | 29 => 0xBE5E73A1#32
  | 30 => 0x40316AD0#32
  | 31 => 0xBEA1E9FB#32
  | 32 => 0xBF152F21#32
  | 33 => 0xBE252488#32
  | 34 => 0x3CA98F03#32
  | 35 => 0x3F3AA73D#32
  | 36 => 0x3E43289A#32
  | 37 => 0x40174297#32
  | 38 => 0x3E96CA7E#32
  | 39 => 0x40866EB4#32
  | 40 => 0xBF6ED264#32
  | 41 => 0x3FE716C2#32
  | 42 => 0xBEC57F32#32
  | 43 => 0xBDA5E493#32
  | 44 => 0x3F78ED08#32
  | 45 => 0x3FA06251#32
  | 46 => 0xBEEFA430#32
  | 47 => 0x3AB37971#32
  | 48 => 0x40282927#32
  | 49 => 0x3E9E54EA#32
  | 50 => 0x3FD425FF#32
  | 51 => 0xBE326B66#32
  | 52 => 0x3FDBBC14#32
  | 53 => 0x3EB0F354#32
  | 54 => 0x3FAA536B#32
  | 55 => 0x3D2A151E#32
  | 56 => 0xBEF2AB4C#32
  | 57 => 0x40074FFC#32
  | 58 => 0x3FC9DF34#32
  | 59 => 0x3E35B8BC#32
  | 60 => 0xBEA5068C#32
  | 61 => 0xBF1DD2AA#32
  | 62 => 0x3FE25784#32
  | 63 => 0x3FFE22CF#32
  | 64 => 0xBC023F9D#32
  | 65 => 0x3F68A240#32
  | 66 => 0xBF22F6AE#32
  | 67 => 0x3F808238#32
  | 68 => 0x3F74427C#32
  | 69 => 0x3EE8646C#32
  | 70 => 0xBE8EC6DD#32
  | 71 => 0xBFAF6565#32
  | 72 => 0xBD0DE612#32
  | 73 => 0x40C277BA#32
  | 74 => 0x3E2120EB#32
  | 75 => 0x3F1F3214#32
  | 76 => 0xBF04B80C#32
  | 77 => 0x3EAA18A1#32
  | 78 => 0x3F4B25C3#32
  | 79 => 0x3F588D77#32
  | 80 => 0x3F4EDE22#32
  | 81 => 0x3FD54AFC#32
  | 82 => 0xBFD193E5#32
  | 83 => 0x4094E8D2#32
  | 84 => 0x3E00C08D#32
  | 85 => 0x3FF8926B#32
  | 86 => 0xBF60553B#32
  | 87 => 0x3F5994CC#32
  | 88 => 0x3FB56D47#32
  | 89 => 0x3F921ACD#32
  | 90 => 0x407DCE18#32
  | 91 => 0x3FA8EB06#32
  | 92 => 0xBF3E7A5D#32
  | 93 => 0x3FF2F7B4#32
  | 94 => 0xBFA953B9#32
  | 95 => 0x3F88476E#32
  | 96 => 0x3F27E4F4#32
  | 97 => 0xBE94007D#32
  | 98 => 0xBE8A9EF9#32
  | 99 => 0xBBC03F58#32
  | 100 => 0xBE9FA81A#32
  | 101 => 0x3F7C3CB9#32
  | 102 => 0x40024C98#32
  | 103 => 0xBF36712E#32
  | 104 => 0x3F658CC5#32
  | 105 => 0x3F02C79D#32
  | 106 => 0xBE878760#32
  | 107 => 0x3F86BC16#32
  | 108 => 0xBF5AFC13#32
  | 109 => 0x3F6D68AE#32
  | 110 => 0xBF7BBD3C#32
  | 111 => 0xBF5619B6#32
  | 112 => 0x3E2CF346#32
  | 113 => 0x3F878F48#32
  | 114 => 0xBE5E7F4D#32
  | 115 => 0x3F380F7F#32
  | 116 => 0xBE69E29C#32
  | 117 => 0x3F851C96#32
  | 118 => 0xBF05FC63#32
  | 119 => 0x3F1EA0E2#32
  | 120 => 0xBEB0C338#32
  | 121 => 0xBFB7BA39#32
  | 122 => 0xBF70B2E5#32
  | 123 => 0x3D904656#32
  | 124 => 0x3E0D8558#32
  | 125 => 0x40591B06#32
  | 126 => 0xBF74502B#32
  | 127 => 0xBD907E98#32
  | _ => 0#32

noncomputable abbrev lit0t0_246 (i : Nat) : BitVec 32 := match i % 128 with
  | 0 => 0x4077D69E#32
  | 1 => 0x3E1EEEA1#32
  | 2 => 0x3F77E666#32
  | 3 => 0x3F0CFA24#32
  | 4 => 0xBF85C212#32
  | 5 => 0xBF3914CD#32
  | 6 => 0xBF092AEF#32
  | 7 => 0x3CA64C32#32
  | 8 => 0x3FD613EE#32
  | 9 => 0x3F49D966#32
  | 10 => 0xBF2F24AD#32
  | 11 => 0x3FC575DB#32
  | 12 => 0xBE231132#32
  | 13 => 0x3EF9C0CC#32
  | 14 => 0xBF1B32A2#32
  | 15 => 0xBE1C56C9#32
  | 16 => 0x3F2CAE6C#32
  | 17 => 0xBEA826B8#32
  | 18 => 0x3F101A2C#32
  | 19 => 0x3F130601#32
  | 20 => 0x3FC3D1C1#32
  | 21 => 0x3FC8E1F6#32
  | 22 => 0x3F748706#32
  | 23 => 0xBF3662D0#32
  | 24 => 0xBEFFBA04#32
  | 25 => 0x3E9ADF3D#32
  | 26 => 0x40196B8B#32
  | 27 => 0x3EF496FD#32
  | 28 => 0xBF335D50#32
  | 29 => 0x407C1E3D#32
  | 30 => 0x3DF9968E#32
  | 31 => 0x3DF0A8C7#32
  | 32 => 0x3F8380BF#32
  | 33 => 0x3F8171BA#32
  | 34 => 0x3FC1393B#32
  | 35 => 0x3FA8B61E#32
  | 36 => 0x3F4C9097#32
  | 37 => 0xBFAAB964#32
  | 38 => 0xBFA9B764#32
  | 39 => 0x3ECB6F96#32
  | 40 => 0x3FAC4FBD#32
  | 41 => 0xBF940534#32
  | 42 => 0x3F889799#32
  | 43 => 0x3D6C4CFD#32
  | 44 => 0x3E69C3A2#32
  | 45 => 0x3F7D888C#32
  | 46 => 0xBF3DD885#32
  | 47 => 0x3FBF8919#32
  | 48 => 0xBF960516#32
  | 49 => 0x3F94CF6D#32
  | 50 => 0xBEFD57A4#32
  | 51 => 0x3F6CEF31#32
  | 52 => 0x4019352B#32
  | 53 => 0xBE3F2823#32
  | 54 => 0x3F716D3A#32
  | 55 => 0x3EA78893#32
  | 56 => 0x3F3E0C43#32
  | 57 => 0x3EBF56EE#32
  | 58 => 0x40AAE3CF#32
  | 59 => 0x3F78C2A5#32
  | 60 => 0x3C4B6D78#32
  | 61 => 0xBF32B0F7#32
  | 62 => 0x3F1F12E4#32
  | 63 => 0x3E1384F0#32
  | 64 => 0x3F042484#32
  | 65 => 0x40BD74F9#32
  | 66 => 0xBF2BC40C#32
  | 67 => 0xBE0D1D1A#32
  | 68 => 0xBD4DCFF6#32
  | 69 => 0x4007A271#32
  | 70 => 0x3F05D924#32
  | 71 => 0x3DF49993#32
  | 72 => 0x3F875C6A#32
  | 73 => 0x3F04512D#32
  | 74 => 0x40549BDE#32
  | 75 => 0xBF40C846#32
  | 76 => 0xBD95F260#32
  | 77 => 0xBF79518D#32
  | 78 => 0x4085F165#32
  | 79 => 0xBF4D0FD4#32
  | 80 => 0x404830C1#32
  | 81 => 0x40014553#32
  | 82 => 0x40892E01#32
  | 83 => 0xBF239137#32
  | 84 => 0x3E20D744#32
  | 85 => 0x3F34A942#32
  | 86 => 0xBFADD5BF#32
  | 87 => 0xBF55B8A4#32
  | 88 => 0x3D6A2908#32
  | 89 => 0xBE365D81#32
  | 90 => 0xBEA5E7D9#32
  | 91 => 0xBEA21FBB#32
  | 92 => 0x3F8D1566#32
  | 93 => 0x3EE5E4A4#32
  | 94 => 0x4021D21A#32
  | 95 => 0x3FFF3AA7#32
  | 96 => 0x3EF5E29E#32
  | 97 => 0x3F87864C#32
  | 98 => 0x3F747C94#32
  | 99 => 0xBF866A04#32
  | 100 => 0x3F496780#32
  | 101 => 0x3F6B0032#32
  | 102 => 0x3F8C917E#32
  | 103 => 0x3FAD0C21#32
  | 104 => 0xBF8B1321#32
  | 105 => 0xBF2690A2#32
  | 106 => 0x3EA77CFB#32
  | 107 => 0xBEF15B06#32
  | 108 => 0xBF7B2477#32
  | 109 => 0xBF3D0D56#32
  | 110 => 0xBE121F07#32
  | 111 => 0x4069C6CF#32
  | 112 => 0xBE25F7CD#32
  | 113 => 0xBEA9FA94#32
  | 114 => 0x3F8F04D2#32
  | 115 => 0x3FA469DB#32
  | 116 => 0xBF42DDE1#32
  | 117 => 0x3FCF4573#32
  | 118 => 0xBE6F2FEA#32
  | 119 => 0xBF0916BE#32
  | 120 => 0x3FB2F56D#32
  | 121 => 0x400988FA#32
  | 122 => 0x3EFDC5A3#32
  | 123 => 0x3F8F2631#32
  | 124 => 0x3FAB2332#32
  | 125 => 0x3F1E0501#32
  | 126 => 0xBEC8AB01#32
  | 127 => 0x4015F33A#32
  | _ => 0#32

noncomputable abbrev lit0t0_247 (i : Nat) : BitVec 32 := match i % 128 with
  | 0 => 0x3F2ED27E#32
  | 1 => 0x3CF2FBB5#32
  | 2 => 0x3FF6E79A#32
  | 3 => 0x3F0D3C7A#32
  | 4 => 0xBF026339#32
  | 5 => 0x3FF702D1#32
  | 6 => 0xBF965438#32
  | 7 => 0x3EE1CE41#32
  | 8 => 0x3F1F60D4#32
  | 9 => 0xBF465E4E#32
  | 10 => 0x3F743F1D#32
  | 11 => 0xBF4C1190#32
  | 12 => 0xBEFAF003#32
  | 13 => 0xBED94D12#32
  | 14 => 0x3F338FCA#32
  | 15 => 0xBF4F28DE#32
  | 16 => 0x3FDC4626#32
  | 17 => 0x3F93C6F2#32
  | 18 => 0x40D7D919#32
  | 19 => 0x3FB59229#32
  | 20 => 0x405C55B4#32
  | 21 => 0x40083651#32
  | 22 => 0xBFA79D2C#32
  | 23 => 0x3FF458F1#32
  | 24 => 0xBF744266#32
  | 25 => 0x403E91DB#32
  | 26 => 0x3EC17617#32
  | 27 => 0x3F20195D#32
  | 28 => 0xBDC61F2D#32
  | 29 => 0xBEBBE3E7#32
  | 30 => 0x3FE3A2C9#32
  | 31 => 0xBF49AD74#32
  | 32 => 0xBF4AB952#32
  | 33 => 0x3FCF1AEA#32
  | 34 => 0xBEB3EA8D#32
  | 35 => 0x3EA1541B#32
  | 36 => 0xBF86F3C6#32
  | 37 => 0xBF6D719C#32
  | 38 => 0x3EDAC150#32
  | 39 => 0xBEA3DF02#32
  | 40 => 0x40A3A538#32
  | 41 => 0x3F94B839#32
  | 42 => 0x3FD03FA7#32
  | 43 => 0x3FB99737#32
  | 44 => 0x3FBAC1C0#32
  | 45 => 0x404EBD59#32
  | 46 => 0x40569D60#32
  | 47 => 0x3EB6BA2C#32
  | 48 => 0xBD89258D#32
  | 49 => 0xBF97ABFA#32
  | 50 => 0xBEFF4EBE#32
  | 51 => 0xBF58304D#32
  | 52 => 0x3F0840B4#32
  | 53 => 0x3F9931BA#32
  | 54 => 0xBC63124F#32
  | 55 => 0x3FF89EC6#32
  | 56 => 0x3FA78188#32
  | 57 => 0x3EF8C6BC#32
  | 58 => 0x3F0A75DA#32
  | 59 => 0x3F0F05B2#32
  | 60 => 0xBEEFFAE2#32
  | 61 => 0xBE06E0FE#32
  | 62 => 0xBE4308D9#32
  | 63 => 0x3F6E7ED8#32
  | 64 => 0x3FE02509#32
  | 65 => 0x3FF9AE4E#32
  | 66 => 0xBFA33836#32
  | 67 => 0xBE639C99#32
  | 68 => 0x4001C945#32
  | 69 => 0xBFB2CB22#32
  | 70 => 0xBF2CEF5A#32
  | 71 => 0x3F3B21BF#32
  | 72 => 0x3FD4B7CD#32
  | 73 => 0x3F2F038F#32
  | 74 => 0xBF847F4E#32
  | 75 => 0x3F50A8B0#32
  | 76 => 0x3ED47692#32
  | 77 => 0x3D307480#32
  | 78 => 0x3FC04C6F#32
  | 79 => 0x3F83365C#32
  | 80 => 0xBF244161#32
  | 81 => 0xBF1D80C0#32
  | 82 => 0xBCE4BB9C#32
  | 83 => 0xBF1F5D7F#32
  | 84 => 0xBF409F03#32
  | 85 => 0xBF220EEF#32
  | 86 => 0x401ECC77#32
  | 87 => 0xBEFE6247#32
  | 88 => 0x402A2EEA#32
  | 89 => 0x408695F9#32
  | 90 => 0xBE7DC791#32
  | 91 => 0x40092761#32
  | 92 => 0xBE552EA4#32
  | 93 => 0xBEA84D9D#32
  | 94 => 0x4003EAE8#32
  | 95 => 0x3F5D5F8E#32
  | 96 => 0x402148D7#32
  | 97 => 0x3FBFED93#32
  | 98 => 0xBF990C52#32
  | 99 => 0xBE6C3E01#32
  | 100 => 0xBF376203#32
  | 101 => 0x3F43CEF8#32
  | 102 => 0xBF16CDC4#32
  | 103 => 0xBF32F98C#32
  | 104 => 0x401FB2F3#32
  | 105 => 0x3DEFF481#32
  | 106 => 0xBD7A1E3F#32
  | 107 => 0xBFB55FBD#32
  | 108 => 0xBED7CFDA#32
  | 109 => 0x4027A272#32
  | 110 => 0xBF2C3F13#32
  | 111 => 0x3F65F221#32
  | 112 => 0x3F5508E9#32
  | 113 => 0x3EE79152#32
  | 114 => 0x3EE86D86#32
  | 115 => 0x3E760D82#32
  | 116 => 0x3D03AFA7#32
  | 117 => 0x3F0DAA3A#32
  | 118 => 0x3DFBE3BB#32
  | 119 => 0x3F891E96#32
  | 120 => 0xBF1B2356#32
  | 121 => 0x3FA1DCE9#32
  | 122 => 0x40667C14#32
  | 123 => 0x3E5FD9D4#32
  | 124 => 0xBDEEE164#32
  | 125 => 0xBE9FA09B#32
  | 126 => 0xBE8BA888#32
  | 127 => 0x3F867D80#32
  | _ => 0#32

noncomputable abbrev lit0t0_248 (i : Nat) : BitVec 32 := match i % 128 with
  | 0 => 0x4006FBD3#32
  | 1 => 0x4059301D#32
  | 2 => 0xBE407B11#32
  | 3 => 0x40446A9D#32
  | 4 => 0x3F19B466#32
  | 5 => 0x3F231ED8#32
  | 6 => 0xBE966C4D#32
  | 7 => 0xBEAFC98C#32
  | 8 => 0x3FA4DCF0#32
  | 9 => 0x3FC4FCB8#32
  | 10 => 0x3FA699D6#32
  | 11 => 0xBF3C1C1F#32
  | 12 => 0xBE78D72D#32
  | 13 => 0xBF09E1F6#32
  | 14 => 0xBF8B30CC#32
  | 15 => 0xBE2CAB4E#32
  | 16 => 0x3EAC8595#32
  | 17 => 0xBEA1B73E#32
  | 18 => 0x3FFEA965#32
  | 19 => 0x401182B1#32
  | 20 => 0x3EC392EB#32
  | 21 => 0x4050637E#32
  | 22 => 0xBFA1699E#32
  | 23 => 0xBF46455D#32
  | 24 => 0x3C96972C#32
  | 25 => 0xBF0072AC#32
  | 26 => 0x3E7175AD#32
  | 27 => 0xBF7F8C0C#32
  | 28 => 0x3F96F5A5#32
  | 29 => 0x3E94027C#32
  | 30 => 0x40232B1B#32
  | 31 => 0x4008898F#32
  | 32 => 0x3F3F6A25#32
  | 33 => 0xBEC29E8D#32
  | 34 => 0x3E888738#32
  | 35 => 0x400F9534#32
  | 36 => 0xBF3D8CC5#32
  | 37 => 0x3F228F0F#32
  | 38 => 0x3E760A8B#32
  | 39 => 0x3ED30F27#32
  | 40 => 0xBF6A2B03#32
  | 41 => 0xBF9CE424#32
  | 42 => 0x4000B73F#32
  | 43 => 0x3F7E13C2#32
  | 44 => 0xBE8CE864#32
  | 45 => 0x400BCDD6#32
  | 46 => 0x403DE11C#32
  | 47 => 0x3EF9FD85#32
  | 48 => 0x3F95ABFA#32
  | 49 => 0x3F888312#32
  | 50 => 0xBE9D6865#32
  | 51 => 0x3FE4F025#32
  | 52 => 0x3FDF9079#32
  | 53 => 0x3F7B24E4#32
  | 54 => 0x3FB1CC42#32
  | 55 => 0xBF629577#32
  | 56 => 0x3F31A9EE#32
  | 57 => 0xBE895169#32
  | 58 => 0x3FE796AB#32
  | 59 => 0x3ED82D56#32
  | 60 => 0xBF89AFA9#32
  | 61 => 0x3FBA2447#32
  | 62 => 0x3FE64417#32
  | 63 => 0x3F30D6B1#32
  | 64 => 0x409F303B#32
  | 65 => 0x3D056B48#32
  | 66 => 0xBE6315B8#32
  | 67 => 0xBF5D3929#32
  | 68 => 0x3F98426A#32
  | 69 => 0x3F03937E#32
  | 70 => 0xBFCB0A16#32
  | 71 => 0x40CFB08F#32
  | 72 => 0xBF75DF94#32
  | 73 => 0x3EE06A2C#32
  | 74 => 0x3FFF387D#32
  | 75 => 0x40079E35#32
  | 76 => 0x3F4353AC#32
  | 77 => 0xBF874610#32
  | 78 => 0xBFB8AE8C#32
  | 79 => 0x3F0163DF#32
  | 80 => 0x3EAADB9E#32
  | 81 => 0xBF0718BA#32
  | 82 => 0xBFC423B8#32
  | 83 => 0x3CB36D82#32
  | 84 => 0xBE473067#32
  | 85 => 0x3E515C17#32
  | 86 => 0x409B2279#32
  | 87 => 0x3E78D610#32
  | 88 => 0x3F08BE66#32
  | 89 => 0x3FA3B038#32
  | 90 => 0xBFC3D2C4#32
  | 91 => 0x3FB11703#32
  | 92 => 0x3F65622E#32
  | 93 => 0xBE61BCCB#32
  | 94 => 0x3FF5499C#32
  | 95 => 0x4030DB86#32
  | 96 => 0xBE3D16B6#32
  | 97 => 0xBF09B682#32
  | 98 => 0x3F366658#32
  | 99 => 0xBF987AA4#32
  | 100 => 0x40D65C4E#32
  | 101 => 0xBE7BAC29#32
  | 102 => 0xBE9D105C#32
  | 103 => 0x3F972F8B#32
  | 104 => 0xBEC77ECC#32
  | 105 => 0xBF3B5A02#32
  | 106 => 0x3F8EF64C#32
  | 107 => 0x4025A009#32
  | 108 => 0xBF8B1C18#32
  | 109 => 0xBF6B5EC1#32
  | 110 => 0x3EFC2794#32
  | 111 => 0xBE97EE81#32
  | 112 => 0x3F86B9AC#32
  | 113 => 0x3F1B734E#32
  | 114 => 0x400AC531#32
  | 115 => 0x3FB7288E#32
  | 116 => 0x3EE86337#32
  | 117 => 0x3FFF7D05#32
  | 118 => 0x3FEAC99E#32
  | 119 => 0x4056154B#32
  | 120 => 0xBFA21620#32
  | 121 => 0xBF8B664C#32
  | 122 => 0xBE023932#32
  | 123 => 0x3FCFA8FE#32
  | 124 => 0x3E932AED#32
  | 125 => 0x4082B673#32
  | 126 => 0x3F6034A5#32
  | 127 => 0x3FD8E3DA#32
  | _ => 0#32

noncomputable abbrev lit0t0_249 (i : Nat) : BitVec 32 := match i % 128 with
  | 0 => 0xBEE56450#32
  | 1 => 0x3F084AC8#32
  | 2 => 0x3EFCF7E0#32
  | 3 => 0x3F8601BE#32
  | 4 => 0x401AFA85#32
  | 5 => 0x3F6C46D2#32
  | 6 => 0xBF87589E#32
  | 7 => 0xBF00797A#32
  | 8 => 0xBF7580B8#32
  | 9 => 0x3F27A57C#32
  | 10 => 0x409BF8C7#32
  | 11 => 0x3DD5A8E9#32
  | 12 => 0x3F0A1248#32
  | 13 => 0x3F9DB4E0#32
  | 14 => 0x3CF3E3A0#32
  | 15 => 0x3E29232B#32
  | 16 => 0xBE1D1872#32
  | 17 => 0x3F9E660D#32
  | 18 => 0xBB8A6D0B#32
  | 19 => 0xBF192F61#32
  | 20 => 0x3F137172#32
  | 21 => 0xBE3A60CF#32
  | 22 => 0xBD8A2CCF#32
  | 23 => 0x3FB75EBA#32
  | 24 => 0x40002E6E#32
  | 25 => 0x3FF3FB52#32
  | 26 => 0x3F68D783#32
  | 27 => 0x3F29C805#32
  | 28 => 0x40BA94C4#32
  | 29 => 0x3FBFCD69#32
  | 30 => 0xBF1B3A5D#32
  | 31 => 0xBF800756#32
  | 32 => 0x3E5E5627#32
  | 33 => 0xBD24956E#32
  | 34 => 0x3D52FB34#32
  | 35 => 0xBF4CA438#32
  | 36 => 0xBED93C3F#32
  | 37 => 0x3F949B8C#32
  | 38 => 0xBE823A9E#32
  | 39 => 0xBE5DE0ED#32
  | 40 => 0x3EAD6BD9#32
  | 41 => 0xBFC9E795#32
  | 42 => 0x3F267A63#32
  | 43 => 0x3F284C93#32
  | 44 => 0xBF31FE32#32
  | 45 => 0xBC35EC7A#32
  | 46 => 0x3F89A925#32
  | 47 => 0x3DD2FF24#32
  | 48 => 0xBE75BC4B#32
  | 49 => 0x3E48C1ED#32
  | 50 => 0xBF8BB501#32
  | 51 => 0x3F8DBA0C#32
  | 52 => 0x3F97A595#32
  | 53 => 0x3F8A2561#32
  | 54 => 0xBFA377E8#32
  | 55 => 0x401C174B#32
  | 56 => 0x3FBB1E03#32
  | 57 => 0x401042AC#32
  | 58 => 0xBF992651#32
  | 59 => 0x3F76B209#32
  | 60 => 0x3F6F342D#32
  | 61 => 0xBF458EEB#32
  | 62 => 0x4059C901#32
  | 63 => 0x402EA7E5#32
  | 64 => 0x3FE11B2C#32
  | 65 => 0x401753AE#32
  | 66 => 0x3E9EE320#32
  | 67 => 0xBE411D1E#32
  | 68 => 0x40719BFC#32
  | 69 => 0xBF0381C7#32
  | 70 => 0x3E2A94E6#32
  | 71 => 0xBECAFA04#32
  | 72 => 0x407DCF25#32
  | 73 => 0x3D59E06D#32
  | 74 => 0x3F1D0350#32
  | 75 => 0x3EB44CA6#32
  | 76 => 0x40AD6F34#32
  | 77 => 0x3E29773F#32
  | 78 => 0x3F9D1ACC#32
  | 79 => 0x3E434C34#32
  | 80 => 0xBF324F4A#32
  | 81 => 0x3E7633D1#32
  | 82 => 0xBE666213#32
  | 83 => 0x3EFFA936#32
  | 84 => 0xBEEF3076#32
  | 85 => 0xBF59AE0F#32
  | 86 => 0xBEC6BCF4#32
  | 87 => 0x3F027455#32
  | 88 => 0xBF457612#32
  | 89 => 0x3E220E2A#32
  | 90 => 0x40274755#32
  | 91 => 0x3F91A317#32
  | 92 => 0x3FC4D5BB#32
  | 93 => 0x407238B2#32
  | 94 => 0x40948CD6#32
  | 95 => 0xBF2325A5#32
  | 96 => 0xBF5F984B#32
  | 97 => 0xBF40F41F#32
  | 98 => 0x3E22CD88#32
  | 99 => 0xBF1A4FAB#32
  | 100 => 0x3F399913#32
  | 101 => 0x3F5A52F7#32
  | 102 => 0x3C3EFE62#32
  | 103 => 0x3DC6BE38#32
  | 104 => 0xBFBDC1F4#32
  | 105 => 0x3FA46551#32
  | 106 => 0xBE884B82#32
  | 107 => 0x3D7B3746#32
  | 108 => 0xBD63EF08#32
  | 109 => 0x3F7CFCEA#32
  | 110 => 0xBF8223D2#32
  | 111 => 0xBF28ABC2#32
  | 112 => 0x3F5DADF0#32
  | 113 => 0x40B64B87#32
  | 114 => 0xBE8AFFE8#32
  | 115 => 0xBF246D03#32
  | 116 => 0x3E7504BF#32
  | 117 => 0x3F42C1FB#32
  | 118 => 0xBE9B15B8#32
  | 119 => 0xBD28A2FB#32
  | 120 => 0xBF8F1A84#32
  | 121 => 0xBE971E38#32
  | 122 => 0x3EE2C676#32
  | 123 => 0x3F95EDD7#32
  | 124 => 0xBF662ECC#32
  | 125 => 0xBF293703#32
  | 126 => 0xBE705F35#32
  | 127 => 0x3D69F7AA#32
  | _ => 0#32

noncomputable abbrev lit0t0_250 (i : Nat) : BitVec 32 := match i % 128 with
  | 0 => 0x3FDD4381#32
  | 1 => 0xBE98F90D#32
  | 2 => 0x3E4B4894#32
  | 3 => 0x3DF06B8D#32
  | 4 => 0xBEB5297A#32
  | 5 => 0x3FB95292#32
  | 6 => 0xBF1EC4A7#32
  | 7 => 0x40965339#32
  | 8 => 0x3F94E1E9#32
  | 9 => 0x3D04074E#32
  | 10 => 0x3E89289A#32
  | 11 => 0x3F677FB3#32
  | 12 => 0x3FD4C874#32
  | 13 => 0xBEC8768F#32
  | 14 => 0x3FC03D3E#32
  | 15 => 0x4091A17D#32
  | 16 => 0x3E5D8AA3#32
  | 17 => 0x3ECDD19E#32
  | 18 => 0x4028BB35#32
  | 19 => 0x40070234#32
  | 20 => 0xBF5F78C8#32
  | 21 => 0x3EED518E#32
  | 22 => 0x3E1B45B3#32
  | 23 => 0xBE9F363B#32
  | 24 => 0xBA47FC78#32
  | 25 => 0xBF3B6A6A#32
  | 26 => 0x3FC4DDD9#32
  | 27 => 0x3DD1B385#32
  | 28 => 0x3FCAE2E6#32
  | 29 => 0x4094977C#32
  | 30 => 0x3EED5FDA#32
  | 31 => 0x3F42148C#32
  | 32 => 0x3F07F929#32
  | 33 => 0xBF90FD5F#32
  | 34 => 0x3FA65508#32
  | 35 => 0x4000037F#32
  | 36 => 0xBB0C09AC#32
  | 37 => 0x3BE784E3#32
  | 38 => 0x3F851A9E#32
  | 39 => 0x3E54DE67#32
  | 40 => 0x3FC09B57#32
  | 41 => 0x3EB1B5DD#32
  | 42 => 0x3F2A46F3#32
  | 43 => 0x3ECED46D#32
  | 44 => 0x3F2E1EF1#32
  | 45 => 0xBF15A05E#32
  | 46 => 0x3ECFB152#32
  | 47 => 0xBE86E924#32
  | 48 => 0x3F9CF6D2#32
  | 49 => 0xBF5A0CCB#32
  | 50 => 0xBE6DD135#32
  | 51 => 0xBF1A72BB#32
  | 52 => 0x4075ECB9#32
  | 53 => 0x3F7477C8#32
  | 54 => 0x3F3D62BE#32
  | 55 => 0x3FD55FA4#32
  | 56 => 0x3FF3FF1A#32
  | 57 => 0xBF0E5766#32
  | 58 => 0x3F001F1D#32
  | 59 => 0xBEB2ACDF#32
  | 60 => 0xBF1181A7#32
  | 61 => 0x3F71F024#32
  | 62 => 0x4012BC12#32
  | 63 => 0x3FBF2E8C#32
  | 64 => 0xBDE0274D#32
  | 65 => 0xBFA9DDF1#32
  | 66 => 0xBF28F89E#32
  | 67 => 0xBFA29EBB#32
  | 68 => 0x3E8C8108#32
  | 69 => 0xBE97F9A6#32
  | 70 => 0x3EE8511C#32
  | 71 => 0x3F308326#32
  | 72 => 0xBF47BB60#32
  | 73 => 0x3F837BC1#32
  | 74 => 0x3F3FFEB9#32
  | 75 => 0x408CA1EC#32
  | 76 => 0x3E24AB28#32
  | 77 => 0x3FB15A5B#32
  | 78 => 0x3FD1A475#32
  | 79 => 0x3FE549D4#32
  | 80 => 0xBF5AE495#32
  | 81 => 0xBDDE3923#32
  | 82 => 0x3FA90D38#32
  | 83 => 0x3FA9891C#32
  | 84 => 0xBF0CB587#32
  | 85 => 0xBF2129F2#32
  | 86 => 0xBEE478A0#32
  | 87 => 0xBEDCE312#32
  | 88 => 0x3FAAFD44#32
  | 89 => 0x3F7E63AA#32
  | 90 => 0x3F15A09F#32
  | 91 => 0x3FBFD3EC#32
  | 92 => 0xBE88FADF#32
  | 93 => 0x3F637844#32
  | 94 => 0x3D432F9C#32
  | 95 => 0x3E113918#32
  | 96 => 0xBE7FBA0D#32
  | 97 => 0x3F8038EA#32
  | 98 => 0x3E5F5FCB#32
  | 99 => 0xBE90301F#32
  | 100 => 0xBF00FEC4#32
  | 101 => 0xBE870FB5#32
  | 102 => 0x3FC15C1F#32
  | 103 => 0x3E6FE77E#32
  | 104 => 0x3CD95D40#32
  | 105 => 0xBEDBA512#32
  | 106 => 0x40718A64#32
  | 107 => 0x3FC5319C#32
  | 108 => 0xBED92E6F#32
  | 109 => 0x3F3B0A60#32
  | 110 => 0x3F86744A#32
  | 111 => 0x402D3BEE#32
  | 112 => 0xBF48B1F1#32
  | 113 => 0x40A82BE9#32
  | 114 => 0x3DA8909D#32
  | 115 => 0xBF0CB193#32
  | 116 => 0x3F016C22#32
  | 117 => 0x3EECC28B#32
  | 118 => 0xBEEA8D8E#32
  | 119 => 0xBEF8E3F0#32
  | 120 => 0x4021CFB7#32
  | 121 => 0x3F768527#32
  | 122 => 0x3F581993#32
  | 123 => 0x401FC654#32
  | 124 => 0x3EE967F4#32
  | 125 => 0x3EF5CFDA#32
  | 126 => 0xBF899502#32
  | 127 => 0x40366E86#32
  | _ => 0#32

noncomputable abbrev lit0t0_251 (i : Nat) : BitVec 32 := match i % 128 with
  | 0 => 0x402A6477#32
  | 1 => 0x3E2F4141#32
  | 2 => 0xBF82088E#32
  | 3 => 0x3C6036F7#32
  | 4 => 0xBF4A338B#32
  | 5 => 0x3F0D0A16#32
  | 6 => 0x3FD24E56#32
  | 7 => 0x3F95CDDC#32
  | 8 => 0x400BB1D0#32
  | 9 => 0xBF9A8337#32
  | 10 => 0x3F88B587#32
  | 11 => 0xBFB95487#32
  | 12 => 0x3ED76C76#32
  | 13 => 0xBEFEFCEC#32
  | 14 => 0x3FCA18AC#32
  | 15 => 0xBE06F703#32
  | 16 => 0xBF3D750E#32
  | 17 => 0x3F664A7B#32
  | 18 => 0x3DC9B71F#32
  | 19 => 0x4046BEDC#32
  | 20 => 0xBE5B9576#32
  | 21 => 0x3F0C027A#32
  | 22 => 0xBF4E0565#32
  | 23 => 0xBEDEC015#32
  | 24 => 0xBF84C423#32
  | 25 => 0x3EDC0A24#32
  | 26 => 0xBE42CC10#32
  | 27 => 0x3F823EA5#32
  | 28 => 0x3F4CF602#32
  | 29 => 0x4047DB71#32
  | 30 => 0x3EAE1237#32
  | 31 => 0x4007F269#32
  | 32 => 0xBEB64416#32
  | 33 => 0x3FC39D60#32
  | 34 => 0x3F0A33D8#32
  | 35 => 0x3FFF77AF#32
  | 36 => 0x3D571FB5#32
  | 37 => 0xBF461A5A#32
  | 38 => 0x3F22E967#32
  | 39 => 0x3F8689F0#32
  | 40 => 0xBE8724BE#32
  | 41 => 0xBE4C2331#32
  | 42 => 0x3EE006EB#32
  | 43 => 0x3E5F20C2#32
  | 44 => 0x3FB05DF8#32
  | 45 => 0x3FB40E95#32
  | 46 => 0x3FDE1CC8#32
  | 47 => 0x402E3F0C#32
  | 48 => 0x3F91C30A#32
  | 49 => 0x3FDB178C#32
  | 50 => 0x3EC4BAAB#32
  | 51 => 0xBF5EE868#32
  | 52 => 0x4094288F#32
  | 53 => 0xBDBB35D9#32
  | 54 => 0x40A8BF8D#32
  | 55 => 0xBEC83CD7#32
  | 56 => 0x3FBCFC18#32
  | 57 => 0xBF0BC310#32
  | 58 => 0xBEAA67B4#32
  | 59 => 0xBE571642#32
  | 60 => 0x3F87C17C#32
  | 61 => 0x4066B3ED#32
  | 62 => 0x400CA0D6#32
  | 63 => 0x3F504D70#32
  | 64 => 0x3F0205AC#32
  | 65 => 0x3FE38715#32
  | 66 => 0xBDEC89EB#32
  | 67 => 0xBEFB0496#32
  | 68 => 0x3DFE95C5#32
  | 69 => 0xBF935725#32
  | 70 => 0x3FA1E019#32
  | 71 => 0x4065B65A#32
  | 72 => 0xBEE1F79F#32
  | 73 => 0x3FD30420#32
  | 74 => 0x3E196468#32
  | 75 => 0x3E91BA95#32
  | 76 => 0xBF192EE0#32
  | 77 => 0xBF3DFF21#32
  | 78 => 0xBE7D6842#32
  | 79 => 0x404CBAD5#32
  | 80 => 0x3F953CFE#32
  | 81 => 0x3FBD6DEB#32
  | 82 => 0x3B476C99#32
  | 83 => 0x3D33F454#32
  | 84 => 0x3FD4CDD4#32
  | 85 => 0x3F71EB57#32
  | 86 => 0xBF820A80#32
  | 87 => 0x4021FB9E#32
  | 88 => 0xBF393DBE#32
  | 89 => 0xBEB02304#32
  | 90 => 0x400AF904#32
  | 91 => 0x40445F2B#32
  | 92 => 0x3FF68F1B#32
  | 93 => 0x3F2C0059#32
  | 94 => 0x3FD8E9C7#32
  | 95 => 0x3FE9FF8E#32
  | 96 => 0xBF9378AA#32
  | 97 => 0x3FB1177E#32
  | 98 => 0xBCDE6A43#32
  | 99 => 0xBE73A360#32
  | 100 => 0x3F591BAF#32
  | 101 => 0x3FCAB0B3#32
  | 102 => 0x3E5F0193#32
  | 103 => 0x402DD01A#32
  | 104 => 0x3E5ECF8E#32
  | 105 => 0xBD44D37C#32
  | 106 => 0xBAF604DB#32
  | 107 => 0xBFF78B41#32
  | 108 => 0xBF780EDC#32
  | 109 => 0x409E777F#32
  | 110 => 0x3F1E3E18#32
  | 111 => 0xBE2D9F9D#32
  | 112 => 0xBF0E9F24#32
  | 113 => 0x3F0EE19E#32
  | 114 => 0x400A8A73#32
  | 115 => 0xBBFAF854#32
  | 116 => 0xBFC5C38E#32
  | 117 => 0xBF199DD6#32
  | 118 => 0xBEA6C4CB#32
  | 119 => 0x3F5FF8B2#32
  | 120 => 0xBE0D0E44#32
  | 121 => 0x402E59A3#32
  | 122 => 0x3F856B08#32
  | 123 => 0x400B2066#32
  | 124 => 0x3EAA3867#32
  | 125 => 0xBF8F43E4#32
  | 126 => 0x3FC89A6A#32
  | 127 => 0xBF1E37A2#32
  | _ => 0#32

noncomputable abbrev lit0t0_252 (i : Nat) : BitVec 32 := match i % 128 with
  | 0 => 0x3E01ED70#32
  | 1 => 0x3FBEF72B#32
  | 2 => 0x3EB52AC6#32
  | 3 => 0x3EF6284B#32
  | 4 => 0xBF4A17F8#32
  | 5 => 0x3DAB4D0B#32
  | 6 => 0x3F3A625C#32
  | 7 => 0x3F56FEE8#32
  | 8 => 0xBF1A5CB8#32
  | 9 => 0xBF99C7E0#32
  | 10 => 0x3F2CFBB4#32
  | 11 => 0xBF3DC593#32
  | 12 => 0xBF3D4316#32
  | 13 => 0x3FCDC72C#32
  | 14 => 0x3F175F8D#32
  | 15 => 0xBEA301FE#32
  | 16 => 0x3E091626#32
  | 17 => 0x3FDF9568#32
  | 18 => 0xBC993D89#32
  | 19 => 0x3FC6EB9E#32
  | 20 => 0x3F8697D3#32
  | 21 => 0x3D36C97D#32
  | 22 => 0xBEE28164#32
  | 23 => 0xBFC866C7#32
  | 24 => 0x3F4A22E9#32
  | 25 => 0x3E202F57#32
  | 26 => 0xBE2906B4#32
  | 27 => 0x3F81E316#32
  | 28 => 0xBE8491EA#32
  | 29 => 0xBF971FDE#32
  | 30 => 0x40355450#32
  | 31 => 0xBDDF51D2#32
  | 32 => 0xBF07184C#32
  | 33 => 0xBF735F09#32
  | 34 => 0x3F87F788#32
  | 35 => 0xBE797718#32
  | 36 => 0xBF7AE074#32
  | 37 => 0x3F63A5D1#32
  | 38 => 0xBE3558E7#32
  | 39 => 0xBDB15F4D#32
  | 40 => 0xBF3CE8A3#32
  | 41 => 0x3FC6D165#32
  | 42 => 0xBE1F54EB#32
  | 43 => 0x3EA9E7E3#32
  | 44 => 0x3F772676#32
  | 45 => 0x3F673441#32
  | 46 => 0xBE391C35#32
  | 47 => 0x3E385617#32
  | 48 => 0x3F9E5727#32
  | 49 => 0xBFB7DABE#32
  | 50 => 0x3E4245F7#32
  | 51 => 0xBF0DD1A1#32
  | 52 => 0x3F738EE2#32
  | 53 => 0xBF8B303D#32
  | 54 => 0x3FDF72D3#32
  | 55 => 0x3F396B29#32
  | 56 => 0x3FFFB257#32
  | 57 => 0xBE975030#32
  | 58 => 0x3F997357#32
  | 59 => 0xBEB2CDA1#32
  | 60 => 0xBE40685E#32
  | 61 => 0x403A585C#32
  | 62 => 0xBEBD20E9#32
  | 63 => 0xBE8C3D92#32
  | 64 => 0x4023A737#32
  | 65 => 0x3F4EE476#32
  | 66 => 0x3F4BF92B#32
  | 67 => 0xBF03B27A#32
  | 68 => 0xBF8C9130#32
  | 69 => 0x3FDE7368#32
  | 70 => 0x3EF086BE#32
  | 71 => 0xBF28BCE7#32
  | 72 => 0x3F89A4D5#32
  | 73 => 0x3FA9C6D3#32
  | 74 => 0x4006EC41#32
  | 75 => 0xBF322611#32
  | 76 => 0x3FBB6735#32
  | 77 => 0xBEF2B9E4#32
  | 78 => 0x3F295749#32
  | 79 => 0x3F14D21B#32
  | 80 => 0xBEE015C9#32
  | 81 => 0x40646E48#32
  | 82 => 0x3EE91E3A#32
  | 83 => 0x406BF9AB#32
  | 84 => 0x3F9E5DDE#32
  | 85 => 0xBC8AB5AA#32
  | 86 => 0xBF40E48C#32
  | 87 => 0x3E013616#32
  | 88 => 0x4001B818#32
  | 89 => 0x3DE8A679#32
  | 90 => 0xBE12E8F7#32
  | 91 => 0xBE2B99B4#32
  | 92 => 0x3F8D7D16#32
  | 93 => 0xBE92572A#32
  | 94 => 0x408D64F1#32
  | 95 => 0xBE451E4C#32
  | 96 => 0xBE78EB2C#32
  | 97 => 0x3FEA22B4#32
  | 98 => 0xBDF9A033#32
  | 99 => 0xBEC9580A#32
  | 100 => 0x402DE270#32
  | 101 => 0x3FEA3615#32
  | 102 => 0x3F0170A2#32
  | 103 => 0x3E499F19#32
  | 104 => 0xBF72BAED#32
  | 105 => 0xBFAA24C4#32
  | 106 => 0xBEF68EAC#32
  | 107 => 0x3E079810#32
  | 108 => 0x3F9A3921#32
  | 109 => 0x3F4047EE#32
  | 110 => 0xBFBD8E61#32
  | 111 => 0xBF5EAC18#32
  | 112 => 0x3F39F657#32
  | 113 => 0xBEC6106C#32
  | 114 => 0x3F39C702#32
  | 115 => 0xBD58FB07#32
  | 116 => 0x3F269D43#32
  | 117 => 0x3EA81CEA#32
  | 118 => 0xBECAEE42#32
  | 119 => 0x3F3324DE#32
  | 120 => 0x3FC87DFB#32
  | 121 => 0x3FF8E5F1#32
  | 122 => 0x3C22C4CC#32
  | 123 => 0x3FB845DF#32
  | 124 => 0xBF4C8467#32
  | 125 => 0x3ED9C603#32
  | 126 => 0x3F0C7E5E#32
  | 127 => 0x4008222F#32
  | _ => 0#32

noncomputable abbrev lit0t0_253 (i : Nat) : BitVec 32 := match i % 128 with
  | 0 => 0xBE14209D#32
  | 1 => 0x3F77AFFA#32
  | 2 => 0xBF62EB3D#32
  | 3 => 0x4009B0DD#32
  | 4 => 0x3F06C4CA#32
  | 5 => 0x3FC6CADF#32
  | 6 => 0x3DDA6857#32
  | 7 => 0xBE0421E0#32
  | 8 => 0x3F20DC64#32
  | 9 => 0x3E8B4841#32
  | 10 => 0x3FFE2DE8#32
  | 11 => 0x40683433#32
  | 12 => 0xBD5C1EBB#32
  | 13 => 0x3E98D052#32
  | 14 => 0xBF22EB0D#32
  | 15 => 0x3D53DA70#32
  | 16 => 0x403F7A25#32
  | 17 => 0x3E825C1C#32
  | 18 => 0x3FD2EB70#32
  | 19 => 0x3FFC6ADB#32
  | 20 => 0x3F0BF354#32
  | 21 => 0x3FA1F44F#32
  | 22 => 0x3F024AA0#32
  | 23 => 0x3F98BDB6#32
  | 24 => 0x3F1D0B06#32
  | 25 => 0xBE8D4894#32
  | 26 => 0xBE8C5188#32
  | 27 => 0xBF4207D6#32
  | 28 => 0xBE8C641E#32
  | 29 => 0xBF911FA8#32
  | 30 => 0x3EEE3270#32
  | 31 => 0xBEEF7972#32
  | 32 => 0x3FA8E67A#32
  | 33 => 0xBFA7A8EA#32
  | 34 => 0x3EC07A7A#32
  | 35 => 0xBE37865E#32
  | 36 => 0xBE3C745C#32
  | 37 => 0xBE8C3B22#32
  | 38 => 0xBC595656#32
  | 39 => 0x3FFFFC85#32
  | 40 => 0xBF9880B4#32
  | 41 => 0xBF4D905C#32
  | 42 => 0x401D5DE7#32
  | 43 => 0x3F8628A6#32
  | 44 => 0x405F0E85#32
  | 45 => 0xBF4F85D0#32
  | 46 => 0x3F08B7D1#32
  | 47 => 0x3F1747FC#32
  | 48 => 0xBF7BC464#32
  | 49 => 0xBE2A9649#32
  | 50 => 0x3FE4BB7E#32
  | 51 => 0x3D90EDEB#32
  | 52 => 0x4014F486#32
  | 53 => 0x40B0B800#32
  | 54 => 0xBDA4E955#32
  | 55 => 0xBE3B172B#32
  | 56 => 0xBEEFBE87#32
  | 57 => 0x40224B48#32
  | 58 => 0xBF7F168E#32
  | 59 => 0x3F1ACDEA#32
  | 60 => 0x3E8960E0#32
  | 61 => 0xBE20A6AD#32
  | 62 => 0x3F00F91C#32
  | 63 => 0xBE306626#32
  | 64 => 0xBEECDA2C#32
  | 65 => 0x3FEEED5C#32
  | 66 => 0x402061BC#32
  | 67 => 0xBF88DFA4#32
  | 68 => 0xBF7902B8#32
  | 69 => 0xBF2FDC7A#32
  | 70 => 0xBF66C9A7#32
  | 71 => 0xBF23A15E#32
  | 72 => 0xBF9996FB#32
  | 73 => 0x3F88CC64#32
  | 74 => 0x3F65D2CC#32
  | 75 => 0xBF21E82E#32
  | 76 => 0xBFA96ACE#32
  | 77 => 0x3FA1DA8F#32
  | 78 => 0xBE0BA0E6#32
  | 79 => 0xBF7CC02A#32
  | 80 => 0x3F8AFE92#32
  | 81 => 0xBF263DF0#32
  | 82 => 0x3E077D41#32
  | 83 => 0x3E920DF8#32
  | 84 => 0xBE8BD7A6#32
  | 85 => 0xBF3363CB#32
  | 86 => 0x3F3FBB5F#32
  | 87 => 0xBF64116C#32
  | 88 => 0x3F91A360#32
  | 89 => 0x3FA344F2#32
  | 90 => 0x3E0E8D3A#32
  | 91 => 0x3F0B8150#32
  | 92 => 0x4070881E#32
  | 93 => 0x403B4C2F#32
  | 94 => 0x3E05E050#32
  | 95 => 0x4006BB0B#32
  | 96 => 0x3F020446#32
  | 97 => 0xBE13A940#32
  | 98 => 0x3FA9755B#32
  | 99 => 0xBF87EDBE#32
  | 100 => 0xBF68BA2E#32
  | 101 => 0x3FDE4230#32
  | 102 => 0x3B4FB42B#32
  | 103 => 0x3F88A162#32
  | 104 => 0x3FD81F86#32
  | 105 => 0x40039A0D#32
  | 106 => 0x3F9388AF#32
  | 107 => 0xBD88B8C3#32
  | 108 => 0x3F910BF7#32
  | 109 => 0xBFA7F23D#32
  | 110 => 0xBF1CF650#32
  | 111 => 0x3F9E4A87#32
  | 112 => 0x3F3DF91C#32
  | 113 => 0x3EC97146#32
  | 114 => 0x3F44F3C7#32
  | 115 => 0xBF2EBCAF#32
  | 116 => 0x405C9CDD#32
  | 117 => 0xBFDC2C3C#32
  | 118 => 0xBF86409A#32
  | 119 => 0x3F938ECB#32
  | 120 => 0x400E1104#32
  | 121 => 0x3FBB46AD#32
  | 122 => 0x3D2DA42E#32
  | 123 => 0xBF61CB8E#32
  | 124 => 0xBED17480#32
  | 125 => 0x3EE600EB#32
  | 126 => 0xBEE274D2#32
  | 127 => 0x4029566D#32
  | _ => 0#32

noncomputable abbrev lit0t0_254 (i : Nat) : BitVec 32 := match i % 128 with
  | 0 => 0x3FB08515#32
  | 1 => 0x3E96EF14#32
  | 2 => 0x3FE6D86A#32
  | 3 => 0xBF44DBE1#32
  | 4 => 0x3BFA91A1#32
  | 5 => 0x40144955#32
  | 6 => 0x3F9F1539#32
  | 7 => 0xBFCCF12E#32
  | 8 => 0x40142714#32
  | 9 => 0x3DF815ED#32
  | 10 => 0x3F6ED447#32
  | 11 => 0x404192A4#32
  | 12 => 0xBE1A72B4#32
  | 13 => 0x3E7714EC#32
  | 14 => 0x3FE40F18#32
  | 15 => 0xBE981A64#32
  | 16 => 0x3E07A608#32
  | 17 => 0xBEFD5FF0#32
  | 18 => 0x3F309D05#32
  | 19 => 0x40066D7F#32
  | 20 => 0x3E59C8AE#32
  | 21 => 0x3DEAB0B8#32
  | 22 => 0x404622B5#32
  | 23 => 0x4024459E#32
  | 24 => 0x3F96979C#32
  | 25 => 0x3F8EE7E2#32
  | 26 => 0x3EB82688#32
  | 27 => 0xBF430B01#32
  | 28 => 0xBDA76EB8#32
  | 29 => 0x3FBC4C3E#32
  | 30 => 0x3F80FE5A#32
  | 31 => 0x3EC53224#32
  | 32 => 0xBFE69FE9#32
  | 33 => 0x3E949D33#32
  | 34 => 0xBDB6EAC9#32
  | 35 => 0x3FB11130#32
  | 36 => 0x3F7349DA#32
  | 37 => 0x3F65C5A2#32
  | 38 => 0xBAF25E99#32
  | 39 => 0x3EE57CEF#32
  | 40 => 0x4009CF08#32
  | 41 => 0x3FA150F2#32
  | 42 => 0xBE99D7A8#32
  | 43 => 0x3D97357B#32
  | 44 => 0x3E52749D#32
  | 45 => 0xBEF96097#32
  | 46 => 0xBF22E014#32
  | 47 => 0x3FCCDEB2#32
  | 48 => 0xBEF392A6#32
  | 49 => 0xBF407221#32
  | 50 => 0x404597E8#32
  | 51 => 0x3EBBEEDF#32
  | 52 => 0xBF93136A#32
  | 53 => 0xBE299DC9#32
  | 54 => 0x3F6611C0#32
  | 55 => 0xBF2ECFD3#32
  | 56 => 0xBFC2F96E#32
  | 57 => 0x3FE4E7D6#32
  | 58 => 0x3F66707B#32
  | 59 => 0xBF4F3F07#32
  | 60 => 0x3FB59C02#32
  | 61 => 0x40950CCD#32
  | 62 => 0x3F524BEF#32
  | 63 => 0xBF18E463#32
  | 64 => 0xBEAAE615#32
  | 65 => 0xBE2EEBB7#32
  | 66 => 0x3DC34416#32
  | 67 => 0x404F3301#32
  | 68 => 0x404E5E3F#32
  | 69 => 0x3F79143C#32
  | 70 => 0x3DB34741#32
  | 71 => 0x3D57FEA3#32
  | 72 => 0x3F8E6DBC#32
  | 73 => 0x3E84A974#32
  | 74 => 0x4003E6B6#32
  | 75 => 0x3FEB2A1B#32
  | 76 => 0x4049F31B#32
  | 77 => 0xBEF40CC0#32
  | 78 => 0x40FDABB0#32
  | 79 => 0x3E988273#32
  | 80 => 0x3E31D840#32
  | 81 => 0x3DBDFC67#32
  | 82 => 0x40451F57#32
  | 83 => 0x3FE5FDA6#32
  | 84 => 0xBFC3B1AD#32
  | 85 => 0xBE182D0D#32
  | 86 => 0x3FA18E6E#32
  | 87 => 0x3EE55F4A#32
  | 88 => 0x3FC143FD#32
  | 89 => 0x3EB4BC7A#32
  | 90 => 0xBDDE7B4D#32
  | 91 => 0x3FCE3E55#32
  | 92 => 0x3FE6E469#32
  | 93 => 0x3F127AA7#32
  | 94 => 0xBF899E38#32
  | 95 => 0x4013667C#32
  | 96 => 0x3F4558AA#32
  | 97 => 0x3FC38313#32
  | 98 => 0x3EF412BE#32
  | 99 => 0xBEF9AFEE#32
  | 100 => 0x40801A64#32
  | 101 => 0x409D7166#32
  | 102 => 0x3D70A228#32
  | 103 => 0xBE2018D9#32
  | 104 => 0xBEB4F6E1#32
  | 105 => 0x3FA4ED1F#32
  | 106 => 0xBEA9B21D#32
  | 107 => 0x3FA890DE#32
  | 108 => 0xBFAAA620#32
  | 109 => 0x3FAF5890#32
  | 110 => 0x3FAE72DB#32
  | 111 => 0x3E7D722A#32
  | 112 => 0x408208FA#32
  | 113 => 0x408AB3B0#32
  | 114 => 0x3F96E703#32
  | 115 => 0xBEC8C23E#32
  | 116 => 0x3E8D946F#32
  | 117 => 0x3E74BDD6#32
  | 118 => 0xBF4F7180#32
  | 119 => 0x3F8E693B#32
  | 120 => 0xBF4BF2DF#32
  | 121 => 0x3FC12AE1#32
  | 122 => 0x3E8B27A8#32
  | 123 => 0x3E8A21D4#32
  | 124 => 0xBF101FE7#32
  | 125 => 0x3F3C1291#32
  | 126 => 0xBF164D5D#32
  | 127 => 0xBF707BB8#32
  | _ => 0#32

noncomputable abbrev lit0t0_255 (i : Nat) : BitVec 32 := match i % 128 with
  | 0 => 0xBF6DFF42#32
  | 1 => 0x3E22EF3C#32
  | 2 => 0x3DC35EDD#32
  | 3 => 0x3FCB580C#32
  | 4 => 0x3F3E3E20#32
  | 5 => 0x3FE5A107#32
  | 6 => 0x3DBF148A#32
  | 7 => 0xBE42DEAA#32
  | 8 => 0x3FF2F0A6#32
  | 9 => 0xBF2F7E0D#32
  | 10 => 0x401A35DC#32
  | 11 => 0x3EA42D69#32
  | 12 => 0x3F0FAE50#32
  | 13 => 0x3DA4CFD4#32
  | 14 => 0xBED4AA2F#32
  | 15 => 0xBF0A3CFB#32
  | 16 => 0x3EDD6BC8#32
  | 17 => 0xBF5C092C#32
  | 18 => 0xBF54AE02#32
  | 19 => 0x3F5D87A4#32
  | 20 => 0x3DADA02B#32
  | 21 => 0x400562D4#32
  | 22 => 0x3FB3B5C9#32
  | 23 => 0xBF80876E#32
  | 24 => 0xBE38AB82#32
  | 25 => 0x40B0AB41#32
  | 26 => 0x3D2C7BEC#32
  | 27 => 0x3FD02479#32
  | 28 => 0x3ECA2B91#32
  | 29 => 0xBDF3F38B#32
  | 30 => 0x3FE97672#32
  | 31 => 0x40BAD7C1#32
  | 32 => 0x3FA1178C#32
  | 33 => 0xBF909BC2#32
  | 34 => 0xBF4A8909#32
  | 35 => 0xBE8A194A#32
  | 36 => 0xBE88AD2F#32
  | 37 => 0x3F8717A8#32
  | 38 => 0xBF8D96B2#32
  | 39 => 0x3F19C080#32
  | 40 => 0x3F1686F4#32
  | 41 => 0x3E53C1C6#32
  | 42 => 0xBF29A7BF#32
  | 43 => 0x3F69A60A#32
  | 44 => 0x3FE12ECA#32
  | 45 => 0x3EAE7633#32
  | 46 => 0xBEE4A80C#32
  | 47 => 0xBF324EE3#32
  | 48 => 0x3FDA230A#32
  | 49 => 0x401B388E#32
  | 50 => 0x3F1597D5#32
  | 51 => 0x3F05C449#32
  | 52 => 0x3D82A485#32
  | 53 => 0x3EC3B886#32
  | 54 => 0xBE217879#32
  | 55 => 0x3FAFC2D2#32
  | 56 => 0x4034BD6E#32
  | 57 => 0x3FB0633B#32
  | 58 => 0x3FD41394#32
  | 59 => 0x3F0C13E2#32
  | 60 => 0x3ED03ACF#32
  | 61 => 0xBF356980#32
  | 62 => 0xBE824EFB#32
  | 63 => 0x400713A5#32
  | 64 => 0xBF609807#32
  | 65 => 0xBDE56448#32
  | 66 => 0xBE3F6950#32
  | 67 => 0x40437224#32
  | 68 => 0xBF838A9A#32
  | 69 => 0xBF892045#32
  | 70 => 0x3FB74B34#32
  | 71 => 0xBF3775D9#32
  | 72 => 0x40A5AD38#32
  | 73 => 0x3F01461E#32
  | 74 => 0xBF6FAB40#32
  | 75 => 0x3F9E1A63#32
  | 76 => 0xBD7366C5#32
  | 77 => 0xBEEEA72D#32
  | 78 => 0x3FAE054C#32
  | 79 => 0x3FB37E47#32
  | 80 => 0xBEF0DA57#32
  | 81 => 0x40217620#32
  | 82 => 0x3EEDBA08#32
  | 83 => 0xBEFD8FFC#32
  | 84 => 0xBE7057C4#32
  | 85 => 0xBFA12047#32
  | 86 => 0x3F677A27#32
  | 87 => 0xBF313F5C#32
  | 88 => 0x3ECC077E#32
  | 89 => 0xBE94AC86#32
  | 90 => 0xBF8BABE8#32
  | 91 => 0x3EA9B8FD#32
  | 92 => 0x3F8308F2#32
  | 93 => 0x3EF5BF97#32
  | 94 => 0xBE586DCE#32
  | 95 => 0xBF5A3B48#32
  | 96 => 0x40174CED#32
  | 97 => 0x3FBA1170#32
  | 98 => 0x401BD4C2#32
  | 99 => 0x3FEDADCE#32
  | 100 => 0x3EF6DEAC#32
  | 101 => 0x3E6A0983#32
  | 102 => 0xBE92CBC4#32
  | 103 => 0x3EF5F192#32
  | 104 => 0xBF04C8DD#32
  | 105 => 0x3F661D8C#32
  | 106 => 0xBD138E1D#32
  | 107 => 0x3E48E9CF#32
  | 108 => 0xBDA6744D#32
  | 109 => 0x3FD98476#32
  | 110 => 0xBF4EAF91#32
  | 111 => 0x3F422295#32
  | 112 => 0x3ED06E5F#32
  | 113 => 0x3F2B26FB#32
  | 114 => 0x3F0466AD#32
  | 115 => 0x3EE7BD8E#32
  | 116 => 0xBF01065A#32
  | 117 => 0xBF966602#32
  | 118 => 0xBF0A42C8#32
  | 119 => 0x3DF68826#32
  | 120 => 0xBF7AA750#32
  | 121 => 0x3F20FE20#32
  | 122 => 0xBF8AC8DC#32
  | 123 => 0xBF33DD7C#32
  | 124 => 0x3FAA0155#32
  | 125 => 0x3F8788C0#32
  | 126 => 0xBE3488F0#32
  | 127 => 0x3DBC2EC9#32
  | _ => 0#32

noncomputable abbrev lit0t0_256 (i : Nat) : BitVec 32 := match i % 128 with
  | 0 => 0x3F85748D#32
  | 1 => 0x3FE7A21B#32
  | 2 => 0xBF02C78A#32
  | 3 => 0xBFB576D7#32
  | 4 => 0x3EC5A458#32
  | 5 => 0x3EF2E970#32
  | 6 => 0xBE9BEE4F#32
  | 7 => 0x40A4A6CE#32
  | 8 => 0xBC67C654#32
  | 9 => 0x4019CF55#32
  | 10 => 0x408E7B80#32
  | 11 => 0x3FE5473B#32
  | 12 => 0x3FB22F1B#32
  | 13 => 0x3FDCBEEA#32
  | 14 => 0xBFA7CEB4#32
  | 15 => 0xBF068949#32
  | 16 => 0xBF824E8F#32
  | 17 => 0x3EC6DFDC#32
  | 18 => 0xBF1CA73D#32
  | 19 => 0xBE9A4FFA#32
  | 20 => 0x3EC9E647#32
  | 21 => 0x3F6B440E#32
  | 22 => 0x400F75DE#32
  | 23 => 0x402FFA0C#32
  | 24 => 0x3EE60938#32
  | 25 => 0x3E1A256A#32
  | 26 => 0xBF47430B#32
  | 27 => 0x3EF2E0BE#32
  | 28 => 0xBF995598#32
  | 29 => 0x3F086D02#32
  | 30 => 0xBCCB1A1B#32
  | 31 => 0xBECDBA46#32
  | 32 => 0x3EAF27B5#32
  | 33 => 0x3FAE2AFF#32
  | 34 => 0x3E0EE7F0#32
  | 35 => 0x3FBEDD2B#32
  | 36 => 0xBF887306#32
  | 37 => 0x3F6AEE60#32
  | 38 => 0xBE8DA0E6#32
  | 39 => 0x3EB51B23#32
  | 40 => 0x3FE62DEC#32
  | 41 => 0x3FCD4F1A#32
  | 42 => 0x3E440D84#32
  | 43 => 0x3F084EA8#32
  | 44 => 0xBF56BB74#32
  | 45 => 0xBD1AE478#32
  | 46 => 0x3E93C111#32
  | 47 => 0x40261298#32
  | 48 => 0x3FEA69B4#32
  | 49 => 0x4007F49A#32
  | 50 => 0x3E06D233#32
  | 51 => 0xBF651522#32
  | 52 => 0x3FE14D47#32
  | 53 => 0x4057510F#32
  | 54 => 0x3F38F298#32
  | 55 => 0x3FA69D05#32
  | 56 => 0xBF673B24#32
  | 57 => 0xBE02F173#32
  | 58 => 0xBF9D0D03#32
  | 59 => 0xBED3F908#32
  | 60 => 0x3FC8904A#32
  | 61 => 0xBF84B75F#32
  | 62 => 0x4016EA1F#32
  | 63 => 0x3E89BF84#32
  | 64 => 0xBE8A33C3#32
  | 65 => 0x3ED81A9A#32
  | 66 => 0xBEBFC8D6#32
  | 67 => 0xBF35EE4A#32
  | 68 => 0x3FE6A971#32
  | 69 => 0x3E74540D#32
  | 70 => 0x40147C7C#32
  | 71 => 0xBE589BEA#32
  | 72 => 0x3F71CA42#32
  | 73 => 0x3F6575CA#32
  | 74 => 0x3FEE9D91#32
  | 75 => 0xBF1499E9#32
  | 76 => 0xBFBE5850#32
  | 77 => 0xBFBF416F#32
  | 78 => 0xBFB8CB75#32
  | 79 => 0x40270138#32
  | 80 => 0x3EAE724D#32
  | 81 => 0x3F286624#32
  | 82 => 0x3EBA1A15#32
  | 83 => 0x3CD3A7BA#32
  | 84 => 0x3FFFF2DF#32
  | 85 => 0xBEF6BB00#32
  | 86 => 0x3E367A3A#32
  | 87 => 0x3E3284A9#32
  | 88 => 0x40327E3C#32
  | 89 => 0x3E9E99CC#32
  | 90 => 0xBD6FB480#32
  | 91 => 0xBF2C4FD4#32
  | 92 => 0xBF94EC32#32
  | 93 => 0x3FA375DF#32
  | 94 => 0xBF108B0F#32
  | 95 => 0x4026A20B#32
  | 96 => 0x3F0E6483#32
  | 97 => 0x3F79420A#32
  | 98 => 0xBF587238#32
  | 99 => 0x3F2844F4#32
  | 100 => 0x3F31BFBD#32
  | 101 => 0xBE69D50E#32
  | 102 => 0x3F381272#32
  | 103 => 0x3ED4753E#32
  | 104 => 0x3FA9635A#32
  | 105 => 0xBF52C2E0#32
  | 106 => 0xBF83D3A7#32
  | 107 => 0xBF8CFDCF#32
  | 108 => 0xBF549259#32
  | 109 => 0xBEC281BC#32
  | 110 => 0x3F11F168#32
  | 111 => 0xBF647666#32
  | 112 => 0xBF888FEE#32
  | 113 => 0x403C23CD#32
  | 114 => 0x3F9C6C6E#32
  | 115 => 0x4055EE8C#32
  | 116 => 0xBF22FBE1#32
  | 117 => 0x3F599263#32
  | 118 => 0xBEAB4689#32
  | 119 => 0xBDC8F9E4#32
  | 120 => 0xBE9BD43D#32
  | 121 => 0x3F36C189#32
  | 122 => 0xBED802F9#32
  | 123 => 0x3CA9CC24#32
  | 124 => 0x40390726#32
  | 125 => 0xBEE31EBA#32
  | 126 => 0xBDD9D81A#32
  | 127 => 0x3FEBBC86#32
  | _ => 0#32

noncomputable abbrev lit0t0_257 (i : Nat) : BitVec 32 := match i % 128 with
  | 0 => 0x3F7E5E5A#32
  | 1 => 0x3E0EEBE3#32
  | 2 => 0xBD116DCF#32
  | 3 => 0x3FD92743#32
  | 4 => 0x3FF31A64#32
  | 5 => 0xBFA1C844#32
  | 6 => 0x3F12DD9D#32
  | 7 => 0xBF11C022#32
  | 8 => 0x3EC79D88#32
  | 9 => 0x3ED2D0CA#32
  | 10 => 0x3F96310E#32
  | 11 => 0xBF619846#32
  | 12 => 0xBFAAB6BC#32
  | 13 => 0x404D45E6#32
  | 14 => 0x3D086A41#32
  | 15 => 0xBF1E67A8#32
  | 16 => 0xBEB9B6D3#32
  | 17 => 0xBBF2EBEB#32
  | 18 => 0x3FEF6114#32
  | 19 => 0x3FDACA08#32
  | 20 => 0x3E1B2F1E#32
  | 21 => 0xBF627CBC#32
  | 22 => 0xBEF86736#32
  | 23 => 0x3E0330C9#32
  | 24 => 0x3E7EBEDF#32
  | 25 => 0x3DD44996#32
  | 26 => 0xBF17365E#32
  | 27 => 0x3E9DA18D#32
  | 28 => 0x3FC6D973#32
  | 29 => 0x3FD24CD0#32
  | 30 => 0x3EA0A987#32
  | 31 => 0xBE5AE287#32
  | 32 => 0x3FD74894#32
  | 33 => 0xBF859BA8#32
  | 34 => 0x3FE29932#32
  | 35 => 0x3F456983#32
  | 36 => 0x3E9976C6#32
  | 37 => 0xBEACB190#32
  | 38 => 0x3E167C68#32
  | 39 => 0xBEF441CB#32
  | 40 => 0x3F6AD527#32
  | 41 => 0x3FC46D72#32
  | 42 => 0xBF4EEB8F#32
  | 43 => 0xBF49BA0A#32
  | 44 => 0x40453A76#32
  | 45 => 0x3F3B32EC#32
  | 46 => 0x3F6FF27E#32
  | 47 => 0x402F79E9#32
  | 48 => 0x3FAD93AD#32
  | 49 => 0x3FFAE67C#32
  | 50 => 0x3E7C536B#32
  | 51 => 0x4011FB73#32
  | 52 => 0xBECFE04D#32
  | 53 => 0x3F82F73E#32
  | 54 => 0xBF391FE6#32
  | 55 => 0x3FB91694#32
  | 56 => 0x3CED1517#32
  | 57 => 0xBF20FD9B#32
  | 58 => 0x3F1365A4#32
  | 59 => 0x3E5785DE#32
  | 60 => 0x3F981570#32
  | 61 => 0xBF4144E3#32
  | 62 => 0x3D3CA14B#32
  | 63 => 0x40085B30#32
  | 64 => 0xBF1C7BA5#32
  | 65 => 0x3FC9EEF2#32
  | 66 => 0x3F5D2C03#32
  | 67 => 0x3F0E9C6F#32
  | 68 => 0x3E6A8E97#32
  | 69 => 0x3F14DCC9#32
  | 70 => 0xBEE025FA#32
  | 71 => 0x3FD2DEF1#32
  | 72 => 0xBF8C39E9#32
  | 73 => 0xBF8C700A#32
  | 74 => 0x3FA27350#32
  | 75 => 0x3D408E7F#32
  | 76 => 0xBDC09DFA#32
  | 77 => 0x400FF25B#32
  | 78 => 0xBD99C993#32
  | 79 => 0xBE8FD198#32
  | 80 => 0x3FA5DE95#32
  | 81 => 0x3DB533F3#32
  | 82 => 0x3E0B10EB#32
  | 83 => 0x3F15084C#32
  | 84 => 0xBF24B610#32
  | 85 => 0x404531D1#32
  | 86 => 0x3E50B11E#32
  | 87 => 0x3FE7E0EA#32
  | 88 => 0xBE670F4C#32
  | 89 => 0x40004CB0#32
  | 90 => 0x3F74D6AC#32
  | 91 => 0xBE1F8B51#32
  | 92 => 0x3F880291#32
  | 93 => 0xBD739B89#32
  | 94 => 0xBEBF1C11#32
  | 95 => 0x3F5095F2#32
  | 96 => 0xBEB76A63#32
  | 97 => 0x40035037#32
  | 98 => 0xBF395252#32
  | 99 => 0xBEFF193A#32
  | 100 => 0xBE34EF8A#32
  | 101 => 0xBEB5DE2F#32
  | 102 => 0xBE4E4E24#32
  | 103 => 0x3F5411F5#32
  | 104 => 0x3EF9D444#32
  | 105 => 0xBF977670#32
  | 106 => 0xBF526E63#32
  | 107 => 0x3F8AC2F6#32
  | 108 => 0x3DFD26D6#32
  | 109 => 0x3E2C377F#32
  | 110 => 0x3F3BFF7D#32
  | 111 => 0x3EED43AC#32
  | 112 => 0xBD3D60C6#32
  | 113 => 0xBF1E50D0#32
  | 114 => 0x3F9FCE18#32
  | 115 => 0xBE5C7276#32
  | 116 => 0xBF58026F#32
  | 117 => 0x3F680C88#32
  | 118 => 0xBE9F4206#32
  | 119 => 0xBF594A63#32
  | 120 => 0x3F62D814#32
  | 121 => 0x3F9E4733#32
  | 122 => 0xBD3CEADA#32
  | 123 => 0xBEFD35B4#32
  | 124 => 0xBE037957#32
  | 125 => 0x3E0129AD#32
  | 126 => 0x3FB0CD80#32
  | 127 => 0x3FA21DB3#32
  | _ => 0#32

noncomputable abbrev lit0t0_258 (i : Nat) : BitVec 32 := match i % 128 with
  | 0 => 0x3CB81F42#32
  | 1 => 0xBF26A4C9#32
  | 2 => 0x400016A5#32
  | 3 => 0x3F463EE8#32
  | 4 => 0xBF5CA884#32
  | 5 => 0x3F6BDBCD#32
  | 6 => 0x3FFCF5A0#32
  | 7 => 0x3F74FD52#32
  | 8 => 0x3E6E12A3#32
  | 9 => 0x3F1DEC19#32
  | 10 => 0xBCD7B3D5#32
  | 11 => 0x401E9438#32
  | 12 => 0x3F407ABD#32
  | 13 => 0xBF340D00#32
  | 14 => 0x3DC849AE#32
  | 15 => 0x3E5A114E#32
  | 16 => 0x3F9F385A#32
  | 17 => 0xBDDFA047#32
  | 18 => 0x3FDFDE6D#32
  | 19 => 0xBEF4DCFF#32
  | 20 => 0x3B59380E#32
  | 21 => 0x3EAF37DD#32
  | 22 => 0x3F9F2508#32
  | 23 => 0x3F804052#32
  | 24 => 0x40948E11#32
  | 25 => 0x3FF17B33#32
  | 26 => 0x3D5116BD#32
  | 27 => 0x3FF29650#32
  | 28 => 0x403737E9#32
  | 29 => 0x3FFC52C4#32
  | 30 => 0x3FD6FC24#32
  | 31 => 0xBEDAD5D8#32
  | 32 => 0xBFD3083D#32
  | 33 => 0x3F106786#32
  | 34 => 0x40238E5A#32
  | 35 => 0xBE9DDA99#32
  | 36 => 0xBF395C46#32
  | 37 => 0x406C9304#32
  | 38 => 0x3FEAB56C#32
  | 39 => 0x3EB8F4A5#32
  | 40 => 0x3F745E02#32
  | 41 => 0x3F66A6EB#32
  | 42 => 0x3EE7AEC0#32
  | 43 => 0x3F9F04CE#32
  | 44 => 0xBF03FAFA#32
  | 45 => 0x3EE788B0#32
  | 46 => 0x3FF0A16C#32
  | 47 => 0xBF8C9636#32
  | 48 => 0x3D648354#32
  | 49 => 0x401E0F35#32
  | 50 => 0x4029144A#32
  | 51 => 0xBF494582#32
  | 52 => 0xBF36A549#32
  | 53 => 0xBF7C3D5B#32
  | 54 => 0xBF79262E#32
  | 55 => 0xBC06D88D#32
  | 56 => 0x3FC71209#32
  | 57 => 0x3F02129C#32
  | 58 => 0xBD459CEC#32
  | 59 => 0x3F506232#32
  | 60 => 0xBF92A6A5#32
  | 61 => 0xBE04EB6F#32
  | 62 => 0xBEA2E6E5#32
  | 63 => 0x3F82C451#32
  | 64 => 0x3F33FB80#32
  | 65 => 0x3F6893A0#32
  | 66 => 0x3F56A4F1#32
  | 67 => 0x3E851C67#32
  | 68 => 0xBF4F43E5#32
  | 69 => 0xBF07EFB2#32
  | 70 => 0xBF050936#32
  | 71 => 0x3F95DCAA#32
  | 72 => 0x3E877B18#32
  | 73 => 0x3F2EF0B6#32
  | 74 => 0xBF0F6BE6#32
  | 75 => 0x3FB96C28#32
  | 76 => 0x3F3C7B0B#32
  | 77 => 0xBBD46D59#32
  | 78 => 0x3E679E42#32
  | 79 => 0x3F236972#32
  | 80 => 0x4005FA2F#32
  | 81 => 0xBE8F3A88#32
  | 82 => 0x3F29229D#32
  | 83 => 0x3EBBCB9C#32
  | 84 => 0xBF24ECC2#32
  | 85 => 0x3EEFC856#32
  | 86 => 0x3F9AAA63#32
  | 87 => 0xBDFB8DFD#32
  | 88 => 0xBE4847E4#32
  | 89 => 0x3FA1E3DC#32
  | 90 => 0x3F95E74C#32
  | 91 => 0x3FCC46D0#32
  | 92 => 0xBFBCF76C#32
  | 93 => 0x3F17A8E4#32
  | 94 => 0x3E9DC336#32
  | 95 => 0x4058B1A5#32
  | 96 => 0xBBCBBD84#32
  | 97 => 0xBDDA0722#32
  | 98 => 0xBED08018#32
  | 99 => 0xBF03AB4A#32
  | 100 => 0x3E0ED2D8#32
  | 101 => 0x3D02E3FA#32
  | 102 => 0xBF2579D8#32
  | 103 => 0xBEBDC818#32
  | 104 => 0x3FF5CEAA#32
  | 105 => 0x3F9F126C#32
  | 106 => 0x3D007D52#32
  | 107 => 0xBE8D860E#32
  | 108 => 0x3F941F31#32
  | 109 => 0x3F65F0AF#32
  | 110 => 0x3F11A67E#32
  | 111 => 0x3F9F6EE0#32
  | 112 => 0xBF9D3AE2#32
  | 113 => 0xBF0CA675#32
  | 114 => 0xBEFF8BB8#32
  | 115 => 0xBF9D1D92#32
  | 116 => 0xBE5EE222#32
  | 117 => 0xBF83F16C#32
  | 118 => 0x3FD690E4#32
  | 119 => 0xBE45D975#32
  | 120 => 0xBC93AEE8#32
  | 121 => 0x404A6349#32
  | 122 => 0xBD55CF1E#32
  | 123 => 0x3F69F9C6#32
  | 124 => 0xBF0BA404#32
  | 125 => 0x407CACFD#32
  | 126 => 0xBEBC0C86#32
  | 127 => 0x3FE4598C#32
  | _ => 0#32

noncomputable abbrev lit0t0_259 (i : Nat) : BitVec 32 := match i % 128 with
  | 0 => 0xBE9F77D1#32
  | 1 => 0x402D4078#32
  | 2 => 0xBE2FA6D8#32
  | 3 => 0xBF5C031A#32
  | 4 => 0x3E8F989B#32
  | 5 => 0xBD9019F1#32
  | 6 => 0xBDC5166E#32
  | 7 => 0x3F3A5590#32
  | 8 => 0x4004E385#32
  | 9 => 0x402AFD68#32
  | 10 => 0x3F02FE1E#32
  | 11 => 0xBF5FC188#32
  | 12 => 0x3E2E9E1E#32
  | 13 => 0x3F13CB44#32
  | 14 => 0x3EA95C3B#32
  | 15 => 0xBF225D9C#32
  | 16 => 0xBF222E47#32
  | 17 => 0x400A6510#32
  | 18 => 0xBD5B95AB#32
  | 19 => 0x3EAC8B65#32
  | 20 => 0x40005908#32
  | 21 => 0xBEF01340#32
  | 22 => 0x40842D95#32
  | 23 => 0xBF4F8AA8#32
  | 24 => 0x3FC20DF6#32
  | 25 => 0xBCD948FC#32
  | 26 => 0x3FBA5DD6#32
  | 27 => 0x3FBE21F1#32
  | 28 => 0x405BF34C#32
  | 29 => 0xBE5BD6AB#32
  | 30 => 0xBE7F7F9D#32
  | 31 => 0x3F1C8BE8#32
  | 32 => 0x3FC3DA33#32
  | 33 => 0x3ED2523B#32
  | 34 => 0x3F9115A9#32
  | 35 => 0xBF1A4C28#32
  | 36 => 0x3FB82C75#32
  | 37 => 0x4054575E#32
  | 38 => 0x3FD8846C#32
  | 39 => 0x3F21FA35#32
  | 40 => 0x41091F6D#32
  | 41 => 0xBF7FFBAC#32
  | 42 => 0x3F95475E#32
  | 43 => 0xBF1F6FE7#32
  | 44 => 0x3FA5ACB6#32
  | 45 => 0x3FB1FE02#32
  | 46 => 0x3FA67126#32
  | 47 => 0xBEC0BB52#32
  | 48 => 0xBE4B115D#32
  | 49 => 0xBF9B89D2#32
  | 50 => 0x4016E17A#32
  | 51 => 0xBE34255D#32
  | 52 => 0xBF4C6DA0#32
  | 53 => 0x3DD25386#32
  | 54 => 0xBF52A9C8#32
  | 55 => 0x3DACC12F#32
  | 56 => 0x3EA9C858#32
  | 57 => 0x3FA6755E#32
  | 58 => 0xBF4A545C#32
  | 59 => 0x4003D802#32
  | 60 => 0xBE1672CA#32
  | 61 => 0xBFBD9845#32
  | 62 => 0xBE13D851#32
  | 63 => 0x3DBAEA29#32
  | 64 => 0x39A94EFF#32
  | 65 => 0xBF68DC94#32
  | 66 => 0x3EA3DFCA#32
  | 67 => 0x3F95ED84#32
  | 68 => 0xBFC4E207#32
  | 69 => 0x3F5B44A2#32
  | 70 => 0xBCFEFA0C#32
  | 71 => 0x3F98A72E#32
  | 72 => 0x3EF50E2F#32
  | 73 => 0xBDDE0B7E#32
  | 74 => 0xBF0EFE4C#32
  | 75 => 0x4056C5DB#32
  | 76 => 0x3FDE7F4C#32
  | 77 => 0x403617C4#32
  | 78 => 0xBD839AB4#32
  | 79 => 0x3F5D0508#32
  | 80 => 0x3F8D9A0F#32
  | 81 => 0xBEF4078F#32
  | 82 => 0x3F5B65AA#32
  | 83 => 0xBF676CAD#32
  | 84 => 0xBF5B62B2#32
  | 85 => 0x40136344#32
  | 86 => 0x4012E1EA#32
  | 87 => 0xBFBEDB3C#32
  | 88 => 0x400D2396#32
  | 89 => 0x3FCF48EF#32
  | 90 => 0x3F4E69A5#32
  | 91 => 0x3FE515A3#32
  | 92 => 0x4031F268#32
  | 93 => 0x3FB88B11#32
  | 94 => 0x4031E380#32
  | 95 => 0xBE972C5A#32
  | 96 => 0x3F5ABB1A#32
  | 97 => 0xBE8F005E#32
  | 98 => 0x3D20C245#32
  | 99 => 0x3F3D90FF#32
  | 100 => 0xBDE02E23#32
  | 101 => 0x3CB34B86#32
  | 102 => 0x40159BC0#32
  | 103 => 0x3D757353#32
  | 104 => 0xBEF8DB0C#32
  | 105 => 0xBF0709F7#32
  | 106 => 0x3F76F484#32
  | 107 => 0xBE938411#32
  | 108 => 0x3C85BEBB#32
  | 109 => 0x3FE2CAF3#32
  | 110 => 0x3FA2E637#32
  | 111 => 0x3EC01A50#32
  | 112 => 0x406A33BC#32
  | 113 => 0x4003EEF8#32
  | 114 => 0x40746003#32
  | 115 => 0xBF3FA3AC#32
  | 116 => 0x3E5D5B94#32
  | 117 => 0x3F7F04D4#32
  | 118 => 0x3F93937A#32
  | 119 => 0x400AE8CD#32
  | 120 => 0x3F2BEF94#32
  | 121 => 0xBE363660#32
  | 122 => 0x3EF9CE5A#32
  | 123 => 0xBF969EF7#32
  | 124 => 0x3F7C1B32#32
  | 125 => 0x3F26687A#32
  | 126 => 0xBE2F646B#32
  | 127 => 0x3DAABFE4#32
  | _ => 0#32

noncomputable abbrev lit0t0_260 (i : Nat) : BitVec 32 := match i % 128 with
  | 0 => 0xBE72FA83#32
  | 1 => 0xBECABC7B#32
  | 2 => 0xBE6570CF#32
  | 3 => 0xBD92190B#32
  | 4 => 0x3F510763#32
  | 5 => 0xBF143603#32
  | 6 => 0x3FF18FED#32
  | 7 => 0x3FCB4A7C#32
  | 8 => 0x4001B4C8#32
  | 9 => 0x40618F26#32
  | 10 => 0x4000F84A#32
  | 11 => 0xBDDDE956#32
  | 12 => 0xBF2DD4D0#32
  | 13 => 0x3F976A3A#32
  | 14 => 0x4005A363#32
  | 15 => 0xBF699F20#32
  | 16 => 0x3DBA1D20#32
  | 17 => 0xBEC58FD8#32
  | 18 => 0xBF2102FD#32
  | 19 => 0x406419CB#32
  | 20 => 0xBEEEF765#32
  | 21 => 0x3CD31C6E#32
  | 22 => 0xBF86D99A#32
  | 23 => 0xBFBB9D05#32
  | 24 => 0xBD58843D#32
  | 25 => 0xBF4AED8A#32
  | 26 => 0xBD840C74#32
  | 27 => 0x3E1E7F8A#32
  | 28 => 0xBEBD1B09#32
  | 29 => 0x3E8F990C#32
  | 30 => 0x404C9778#32
  | 31 => 0x405B1F75#32
  | 32 => 0xBE1E7C35#32
  | 33 => 0x3FCCFA77#32
  | 34 => 0x407349A4#32
  | 35 => 0xBF4A8EC2#32
  | 36 => 0x3FBF8A09#32
  | 37 => 0xBD83C93D#32
  | 38 => 0x404191B6#32
  | 39 => 0xBF636162#32
  | 40 => 0x3F112896#32
  | 41 => 0xBF1D7C67#32
  | 42 => 0x4095A733#32
  | 43 => 0x3F9149FA#32
  | 44 => 0x3FFE1C50#32
  | 45 => 0x3F81BE2F#32
  | 46 => 0xBE451865#32
  | 47 => 0xBED3A723#32
  | 48 => 0x401D18E3#32
  | 49 => 0x3FEDD36D#32
  | 50 => 0xBE841B03#32
  | 51 => 0x3FA821DC#32
  | 52 => 0x3FD1898C#32
  | 53 => 0xBFACE717#32
  | 54 => 0x3FE73380#32
  | 55 => 0x3FF46095#32
  | 56 => 0xBF8CDEF5#32
  | 57 => 0x3FAFD03B#32
  | 58 => 0x403691D1#32
  | 59 => 0x3D139B00#32
  | 60 => 0x3E6EB0D0#32
  | 61 => 0xBEA19EB9#32
  | 62 => 0xBEDF71CC#32
  | 63 => 0xBE7FBEE5#32
  | 64 => 0x3FCDD2E5#32
  | 65 => 0x3F17D36A#32
  | 66 => 0xBE91A74D#32
  | 67 => 0x3FA8BEE0#32
  | 68 => 0x3D8EAB94#32
  | 69 => 0x3F2F618F#32
  | 70 => 0x3EC7840B#32
  | 71 => 0xBEB2BA9B#32
  | 72 => 0x3F049E52#32
  | 73 => 0xBED09099#32
  | 74 => 0x3CBFB694#32
  | 75 => 0xBEC0507B#32
  | 76 => 0x3FA45E48#32
  | 77 => 0x401500BC#32
  | 78 => 0xBF4D7220#32
  | 79 => 0xBEA4003E#32
  | 80 => 0x3EC202BC#32
  | 81 => 0xBF5BBB63#32
  | 82 => 0x3E753A4D#32
  | 83 => 0x3F659F1C#32
  | 84 => 0x3EC0C093#32
  | 85 => 0xBF278716#32
  | 86 => 0x3CDC5CDD#32
  | 87 => 0x3D18640D#32
  | 88 => 0x3FFB7063#32
  | 89 => 0x3ED2B3C8#32
  | 90 => 0x3D2521AD#32
  | 91 => 0xBE5594B5#32
  | 92 => 0x3CFEA480#32
  | 93 => 0x3F942A71#32
  | 94 => 0xBF462FC6#32
  | 95 => 0xBF31F9AE#32
  | 96 => 0x3F96A788#32
  | 97 => 0x3EA7E2B3#32
  | 98 => 0xBF4624BE#32
  | 99 => 0xBF8E549A#32
  | 100 => 0xBF10046C#32
  | 101 => 0x3F92FF62#32
  | 102 => 0x3F5CA239#32
  | 103 => 0x3E99F792#32
  | 104 => 0xBFB7FF2C#32
  | 105 => 0x3E6ECA43#32
  | 106 => 0xBE1E7AEB#32
  | 107 => 0xBF77E34E#32
  | 108 => 0x3DA4B4BB#32
  | 109 => 0x3F5BFBE3#32
  | 110 => 0x40BB8726#32
  | 111 => 0xBF9D8CED#32
  | 112 => 0xBEBA61DF#32
  | 113 => 0x3F7611AF#32
  | 114 => 0xBE56E080#32
  | 115 => 0x3FA2467E#32
  | 116 => 0x3F7E1139#32
  | 117 => 0x3FEABD32#32
  | 118 => 0x403D80B0#32
  | 119 => 0x4001154A#32
  | 120 => 0x3EBCB67D#32
  | 121 => 0x3EED49F5#32
  | 122 => 0x40182CB0#32
  | 123 => 0xBD1DB965#32
  | 124 => 0xBF186D47#32
  | 125 => 0xBE8F937F#32
  | 126 => 0xBDA9C3EA#32
  | 127 => 0x403F3667#32
  | _ => 0#32

noncomputable abbrev lit0t0_261 (i : Nat) : BitVec 32 := match i % 128 with
  | 0 => 0x40225880#32
  | 1 => 0x3FA15ED1#32
  | 2 => 0xBF30C692#32
  | 3 => 0x3EA25BD2#32
  | 4 => 0x4060417D#32
  | 5 => 0x3E2C865A#32
  | 6 => 0xBF28518A#32
  | 7 => 0x3F868396#32
  | 8 => 0x3FD73BAE#32
  | 9 => 0xBE568D43#32
  | 10 => 0x3E13CE5C#32
  | 11 => 0x3B310F2D#32
  | 12 => 0x409735DA#32
  | 13 => 0xBF870B87#32
  | 14 => 0x40026FCB#32
  | 15 => 0xBFB3D985#32
  | 16 => 0x3D980B19#32
  | 17 => 0x3F25E084#32
  | 18 => 0xBC40161D#32
  | 19 => 0x3EA65C1A#32
  | 20 => 0x3F20F00A#32
  | 21 => 0xBE84F09A#32
  | 22 => 0xBE963F43#32
  | 23 => 0x3FD37933#32
  | 24 => 0x3F285E64#32
  | 25 => 0x3F215BCE#32
  | 26 => 0x3FC89D17#32
  | 27 => 0x3EB202C8#32
  | 28 => 0xBF54C71E#32
  | 29 => 0xBD3F45F3#32
  | 30 => 0x3F937B1E#32
  | 31 => 0x402A7088#32
  | 32 => 0xBE9E8E57#32
  | 33 => 0x3FADA8DE#32
  | 34 => 0x3F98B3B7#32
  | 35 => 0x3FF329F2#32
  | 36 => 0x401EBB5C#32
  | 37 => 0x3F936E10#32
  | 38 => 0x3F08A9FF#32
  | 39 => 0x3FF5D026#32
  | 40 => 0x3FC57A7F#32
  | 41 => 0x3F8E5188#32
  | 42 => 0xBEB830E3#32
  | 43 => 0x400EADF9#32
  | 44 => 0xBE406F48#32
  | 45 => 0xBE67B211#32
  | 46 => 0x3EEEFC54#32
  | 47 => 0xBF347150#32
  | 48 => 0x3FA1B053#32
  | 49 => 0x3F9C9AA0#32
  | 50 => 0xBEEBE71D#32
  | 51 => 0x3FAF0C95#32
  | 52 => 0x3EB16CE5#32
  | 53 => 0x3EC7FA6A#32
  | 54 => 0xBE8429A5#32
  | 55 => 0x3E7310B2#32
  | 56 => 0x3F9381DA#32
  | 57 => 0x406BB71C#32
  | 58 => 0xBE0F36CE#32
  | 59 => 0x3FC85CBB#32
  | 60 => 0xBEE47253#32
  | 61 => 0x4005A9CB#32
  | 62 => 0x3F8E3257#32
  | 63 => 0x3EEF0B28#32
  | 64 => 0xBF59DDC0#32
  | 65 => 0xBECF22C7#32
  | 66 => 0x3FC08AF0#32
  | 67 => 0x3F3DECE7#32
  | 68 => 0x3FC4D819#32
  | 69 => 0x3E324CD4#32
  | 70 => 0x401E32B7#32
  | 71 => 0xBF7E572E#32
  | 72 => 0x3FBD76ED#32
  | 73 => 0xBE7CBB87#32
  | 74 => 0x409066FA#32
  | 75 => 0xBE8E0748#32
  | 76 => 0x3E0E4BBD#32
  | 77 => 0xBFA9A7C4#32
  | 78 => 0x3F834564#32
  | 79 => 0xBEB50792#32
  | 80 => 0x400B0E12#32
  | 81 => 0x3E52E4FB#32
  | 82 => 0xBE6A15FC#32
  | 83 => 0x4020F437#32
  | 84 => 0x3FC5825F#32
  | 85 => 0x3FBCAEAE#32
  | 86 => 0x3E014550#32
  | 87 => 0xBE14A345#32
  | 88 => 0xBED54D01#32
  | 89 => 0xBDFD1418#32
  | 90 => 0x400557A1#32
  | 91 => 0x3E5C21F2#32
  | 92 => 0xBF06AB34#32
  | 93 => 0xBF99C389#32
  | 94 => 0x3F28DC94#32
  | 95 => 0x3EB3397A#32
  | 96 => 0x3F8A0AC3#32
  | 97 => 0xBF37DC97#32
  | 98 => 0x3FB5E65C#32
  | 99 => 0x3F360553#32
  | 100 => 0x4024852E#32
  | 101 => 0x3E688AA1#32
  | 102 => 0x3F561178#32
  | 103 => 0xBF4BF474#32
  | 104 => 0xBE92D88F#32
  | 105 => 0x3EC89D20#32
  | 106 => 0x4015F3D5#32
  | 107 => 0xBF0AB4D7#32
  | 108 => 0x40244FAD#32
  | 109 => 0x3F0BE32C#32
  | 110 => 0x3D91F81B#32
  | 111 => 0x4033037F#32
  | 112 => 0x3F9B510A#32
  | 113 => 0xBF5F64FA#32
  | 114 => 0xBCCE3E42#32
  | 115 => 0x400618CD#32
  | 116 => 0x400B2F5B#32
  | 117 => 0xBF5E16E1#32
  | 118 => 0xBEA27E56#32
  | 119 => 0x3F653DE3#32
  | 120 => 0x3E51568D#32
  | 121 => 0xBC785A31#32
  | 122 => 0xBE52E352#32
  | 123 => 0x3D8D4750#32
  | 124 => 0x3F60687D#32
  | 125 => 0x4031647F#32
  | 126 => 0x4049B1B7#32
  | 127 => 0xBF6A2B18#32
  | _ => 0#32

noncomputable abbrev lit0t0_262 (i : Nat) : BitVec 32 := match i % 128 with
  | 0 => 0x3F9F1D84#32
  | 1 => 0x3FBF5691#32
  | 2 => 0x40007AFF#32
  | 3 => 0x3F19062F#32
  | 4 => 0x40013502#32
  | 5 => 0x3C87B429#32
  | 6 => 0x3F7A893E#32
  | 7 => 0xBF717548#32
  | 8 => 0xBEEEB99E#32
  | 9 => 0xBEA0B038#32
  | 10 => 0x3EC71211#32
  | 11 => 0x3F35D491#32
  | 12 => 0x3FE04A35#32
  | 13 => 0x4087FAFB#32
  | 14 => 0xBE58D32C#32
  | 15 => 0xBF2275C7#32
  | 16 => 0x3F8896ED#32
  | 17 => 0x3B96F1DE#32
  | 18 => 0xBF460DB0#32
  | 19 => 0xBF6D53EC#32
  | 20 => 0xBE271F9E#32
  | 21 => 0xBF563346#32
  | 22 => 0xBE6CD184#32
  | 23 => 0x3F0E8F02#32
  | 24 => 0xBD1B72D9#32
  | 25 => 0xBEDBD669#32
  | 26 => 0xBF485E74#32
  | 27 => 0x401424B3#32
  | 28 => 0xBEBF2090#32
  | 29 => 0xBFA5B944#32
  | 30 => 0xBF35A385#32
  | 31 => 0x3EA51451#32
  | 32 => 0xBE25719E#32
  | 33 => 0x3F9B1BFE#32
  | 34 => 0x3FD65C55#32
  | 35 => 0xBE0D85B7#32
  | 36 => 0x3F5452B4#32
  | 37 => 0xBD4DE6AB#32
  | 38 => 0xBC9F98AB#32
  | 39 => 0x3FD59FF6#32
  | 40 => 0x3F2B1C4A#32
  | 41 => 0x3D93B790#32
  | 42 => 0x3E87C7FA#32
  | 43 => 0xBEBAB6E7#32
  | 44 => 0xBF59C9BC#32
  | 45 => 0xBEC77E62#32
  | 46 => 0x3EF06914#32
  | 47 => 0x3E8055AA#32
  | 48 => 0xBEF63111#32
  | 49 => 0x3FC9AACA#32
  | 50 => 0x3F131F3A#32
  | 51 => 0xBE894132#32
  | 52 => 0xBE81CC51#32
  | 53 => 0xBEF69C68#32
  | 54 => 0x3EF9DBEE#32
  | 55 => 0xBF2C5990#32
  | 56 => 0x3FD09AA0#32
  | 57 => 0xBEC2B4C9#32
  | 58 => 0x3F35991A#32
  | 59 => 0x3EE4C5F8#32
  | 60 => 0xBDE2D231#32
  | 61 => 0x3F065AFC#32
  | 62 => 0x3F4806BE#32
  | 63 => 0x3E261475#32
  | 64 => 0x3F2A134C#32
  | 65 => 0x3E328992#32
  | 66 => 0x3F88A048#32
  | 67 => 0x3F83380B#32
  | 68 => 0xBE705A8F#32
  | 69 => 0xBF1D623F#32
  | 70 => 0x3FF7B5B6#32
  | 71 => 0x3F1E1107#32
  | 72 => 0x4008C50B#32
  | 73 => 0x3F516EAB#32
  | 74 => 0x408272DA#32
  | 75 => 0xBDDAFD93#32
  | 76 => 0x3E71D7D4#32
  | 77 => 0xBEE302F4#32
  | 78 => 0xBF50B687#32
  | 79 => 0x3EB95B0B#32
  | 80 => 0x3F5AF452#32
  | 81 => 0xBF68D865#32
  | 82 => 0x3EBB0C90#32
  | 83 => 0xBEA0E928#32
  | 84 => 0x3F116A71#32
  | 85 => 0x400ABE3E#32
  | 86 => 0x3DAD3D78#32
  | 87 => 0x3F916097#32
  | 88 => 0xBF14FE52#32
  | 89 => 0x3EB36837#32
  | 90 => 0x3F88FD87#32
  | 91 => 0x3FAD7D1B#32
  | 92 => 0xBEC5862D#32
  | 93 => 0x4029A996#32
  | 94 => 0x3E97DFCC#32
  | 95 => 0x3F5A222F#32
  | 96 => 0xBF9ADC8E#32
  | 97 => 0x3F1BD073#32
  | 98 => 0x3FE75DD0#32
  | 99 => 0xBDF6A5AB#32
  | 100 => 0xBFBEE09D#32
  | 101 => 0x40021BA2#32
  | 102 => 0x3FF48A56#32
  | 103 => 0x3FD891FC#32
  | 104 => 0x3FBC5EDD#32
  | 105 => 0x400CA36E#32
  | 106 => 0x3FC2E528#32
  | 107 => 0xBF969980#32
  | 108 => 0x40384E02#32
  | 109 => 0x4042F6A3#32
  | 110 => 0xBAB32CA2#32
  | 111 => 0x3F6D507C#32
  | 112 => 0xBEBF0FA7#32
  | 113 => 0x3E14E2A7#32
  | 114 => 0x3F43C08F#32
  | 115 => 0x3FEA5791#32
  | 116 => 0x40A82192#32
  | 117 => 0x3FA307AE#32
  | 118 => 0x3FE74E3F#32
  | 119 => 0xBE06A9CA#32
  | 120 => 0xBEE496BB#32
  | 121 => 0x4095AD57#32
  | 122 => 0x40A4E231#32
  | 123 => 0x403012BD#32
  | 124 => 0x3F2DC317#32
  | 125 => 0x3F1D9BCE#32
  | 126 => 0x3FC23688#32
  | 127 => 0x3FD791FD#32
  | _ => 0#32

noncomputable abbrev lit0t0_263 (i : Nat) : BitVec 32 := match i % 128 with
  | 0 => 0x3ED0B9CA#32
  | 1 => 0x4003881F#32
  | 2 => 0x3F38A294#32
  | 3 => 0x3E4062EC#32
  | 4 => 0xBE930084#32
  | 5 => 0xBF58BE78#32
  | 6 => 0xBF960423#32
  | 7 => 0x3FA92A46#32
  | 8 => 0xBF45A095#32
  | 9 => 0x3FF11EFB#32
  | 10 => 0x3EBADD83#32
  | 11 => 0x3FF73B92#32
  | 12 => 0xBD0DA66F#32
  | 13 => 0x408A9F1C#32
  | 14 => 0xBF7CD841#32
  | 15 => 0x3EBDA782#32
  | 16 => 0x3FCBD5AB#32
  | 17 => 0x3FE75B44#32
  | 18 => 0x3FDF597D#32
  | 19 => 0x3D579EA6#32
  | 20 => 0x3F5F45CC#32
  | 21 => 0x3FF0C539#32
  | 22 => 0x3F38AFD5#32
  | 23 => 0x3E3CFE23#32
  | 24 => 0x3FB33B5C#32
  | 25 => 0x3E9ADE6F#32
  | 26 => 0x3F514CE7#32
  | 27 => 0x3F15054A#32
  | 28 => 0xBEB1C945#32
  | 29 => 0x3F2F1EF8#32
  | 30 => 0x3F581296#32
  | 31 => 0x3FE50A0F#32
  | 32 => 0x3F053C22#32
  | 33 => 0x3FEC719E#32
  | 34 => 0x3F898CE0#32
  | 35 => 0x3E34230B#32
  | 36 => 0x3F259BF1#32
  | 37 => 0x401FD712#32
  | 38 => 0x3ED7EC24#32
  | 39 => 0x3ED18CC3#32
  | 40 => 0x4012847C#32
  | 41 => 0xBED9BD8A#32
  | 42 => 0x3F945832#32
  | 43 => 0xBF3D9743#32
  | 44 => 0x3E994721#32
  | 45 => 0x3F90BA47#32
  | 46 => 0x3F3C975C#32
  | 47 => 0xBF892BA6#32
  | 48 => 0xBE5B60C6#32
  | 49 => 0xBF1C6C6A#32
  | 50 => 0x407DCABC#32
  | 51 => 0xBF00C37F#32
  | 52 => 0xBE5A108E#32
  | 53 => 0x40320210#32
  | 54 => 0xBE50D4E6#32
  | 55 => 0xBF9BD5E8#32
  | 56 => 0x3F4D6AFB#32
  | 57 => 0x3E73F21A#32
  | 58 => 0x3E9164C7#32
  | 59 => 0x3EF58162#32
  | 60 => 0xBD94124C#32
  | 61 => 0xBECB8451#32
  | 62 => 0x3E2521BF#32
  | 63 => 0x3F9BA092#32
  | 64 => 0x3F669DAF#32
  | 65 => 0x4012350F#32
  | 66 => 0xBF057812#32
  | 67 => 0xBEF1F63B#32
  | 68 => 0xBF0DF9EE#32
  | 69 => 0x3FBBFAD5#32
  | 70 => 0xBF01FF16#32
  | 71 => 0x3F1C2CB6#32
  | 72 => 0xBE86DE90#32
  | 73 => 0xBE72FA6A#32
  | 74 => 0x3F995221#32
  | 75 => 0xBF590F55#32
  | 76 => 0xBEC6B347#32
  | 77 => 0x3FB0BBAC#32
  | 78 => 0x403E70DE#32
  | 79 => 0x3F870720#32
  | 80 => 0x3DD8A6ED#32
  | 81 => 0x4062B2ED#32
  | 82 => 0x400D85A6#32
  | 83 => 0xBE322CFC#32
  | 84 => 0xBF2CF41E#32
  | 85 => 0x3DC895CE#32
  | 86 => 0x3F9842EE#32
  | 87 => 0xBF0B80FC#32
  | 88 => 0x3EFCB9E3#32
  | 89 => 0x3F8F752C#32
  | 90 => 0x3F837A45#32
  | 91 => 0xBCEB7715#32
  | 92 => 0x3FC78585#32
  | 93 => 0x3FA04D11#32
  | 94 => 0x3FE94AFB#32
  | 95 => 0xBF0FD7F2#32
  | 96 => 0x3FD93D4E#32
  | 97 => 0x3FDD04F5#32
  | 98 => 0xBF42FF7A#32
  | 99 => 0x3F102D33#32
  | 100 => 0x3F55F641#32
  | 101 => 0x40B501B1#32
  | 102 => 0xBEA53638#32
  | 103 => 0xBFB07E94#32
  | 104 => 0x3FA78F87#32
  | 105 => 0xBF043AED#32
  | 106 => 0xBEF0694D#32
  | 107 => 0xBE018546#32
  | 108 => 0x3F44BE53#32
  | 109 => 0x3F84493A#32
  | 110 => 0xBF7845EE#32
  | 111 => 0xBF841414#32
  | 112 => 0xBEBCE09D#32
  | 113 => 0x3FA286A0#32
  | 114 => 0xBD9CE62C#32
  | 115 => 0xBF381815#32
  | 116 => 0xBE329389#32
  | 117 => 0x3F71E6BE#32
  | 118 => 0x3FA54E29#32
  | 119 => 0xBF4823AA#32
  | 120 => 0x3DC3BC8D#32
  | 121 => 0x3FFF2245#32
  | 122 => 0xBFC1FF7A#32
  | 123 => 0xBFABEF00#32
  | 124 => 0x3FED886D#32
  | 125 => 0x3F571A14#32
  | 126 => 0xBFA2A42E#32
  | 127 => 0xBF92AC95#32
  | _ => 0#32

noncomputable abbrev lit0t0_264 (i : Nat) : BitVec 32 := match i % 128 with
  | 0 => 0x401D6BCA#32
  | 1 => 0x3FA9535A#32
  | 2 => 0x3F9C60A5#32
  | 3 => 0x3E1FFB2A#32
  | 4 => 0x3F9928A2#32
  | 5 => 0x40B32730#32
  | 6 => 0x3CE69A28#32
  | 7 => 0x4087F9F1#32
  | 8 => 0x3F82ECD8#32
  | 9 => 0xBE8B53E5#32
  | 10 => 0xBF7A0688#32
  | 11 => 0x3E127687#32
  | 12 => 0x3C01FCE9#32
  | 13 => 0x3EE6551A#32
  | 14 => 0xBF2790CA#32
  | 15 => 0xBEC92E01#32
  | 16 => 0xBEAA6D59#32
  | 17 => 0x3FD98922#32
  | 18 => 0x3FB52BD4#32
  | 19 => 0xBFA7D29E#32
  | 20 => 0x3FDB3BA9#32
  | 21 => 0x3FF88B28#32
  | 22 => 0x3F882CB6#32
  | 23 => 0x3EAC4DC6#32
  | 24 => 0x3F3958BD#32
  | 25 => 0xBF15AA38#32
  | 26 => 0x3F1A3623#32
  | 27 => 0x3EDE4104#32
  | 28 => 0x3F539CDB#32
  | 29 => 0xBF0692AF#32
  | 30 => 0x3FF26651#32
  | 31 => 0x3F56F677#32
  | 32 => 0x3EB44D0C#32
  | 33 => 0xBF955475#32
  | 34 => 0x3F95C832#32
  | 35 => 0x3F032201#32
  | 36 => 0xBD08A62D#32
  | 37 => 0x4009CAD6#32
  | 38 => 0x3FF10F30#32
  | 39 => 0x400C884B#32
  | 40 => 0xBD705C5E#32
  | 41 => 0x403E8FC1#32
  | 42 => 0x3F6C1074#32
  | 43 => 0xBF20B2F0#32
  | 44 => 0x4017841D#32
  | 45 => 0xBFBB0555#32
  | 46 => 0x3F9499A4#32
  | 47 => 0xBDE31279#32
  | 48 => 0x3E9F2B86#32
  | 49 => 0x40021059#32
  | 50 => 0x3FE0891F#32
  | 51 => 0x3F0F6B02#32
  | 52 => 0x3F693F14#32
  | 53 => 0x3F703D80#32
  | 54 => 0xBF4A8A17#32
  | 55 => 0x3F917199#32
  | 56 => 0xBFBAED54#32
  | 57 => 0x403CE7D6#32
  | 58 => 0x3E4C01AE#32
  | 59 => 0xBCA7E602#32
  | 60 => 0x3FA444C3#32
  | 61 => 0x406C6D22#32
  | 62 => 0x3ED203FD#32
  | 63 => 0xBEB358D3#32
  | 64 => 0x3FC407B9#32
  | 65 => 0xBF3E18CA#32
  | 66 => 0xBF16714C#32
  | 67 => 0xBF67D240#32
  | 68 => 0x3FE18511#32
  | 69 => 0xBF39ABD4#32
  | 70 => 0xBEB33902#32
  | 71 => 0x3FB51388#32
  | 72 => 0x3EB3ECE9#32
  | 73 => 0xBD0EB2D5#32
  | 74 => 0x3FF345F2#32
  | 75 => 0x3FA20942#32
  | 76 => 0x402A6A3A#32
  | 77 => 0x3F9C8E87#32
  | 78 => 0x3EEC31DC#32
  | 79 => 0x3F93A3BF#32
  | 80 => 0xBFD272EA#32
  | 81 => 0x3EAD0318#32
  | 82 => 0x3F871836#32
  | 83 => 0xBF246CE7#32
  | 84 => 0xBED7AB6D#32
  | 85 => 0xBFDD5C37#32
  | 86 => 0xBE3E511A#32
  | 87 => 0x3FCA43CF#32
  | 88 => 0x3F8C90A8#32
  | 89 => 0x3F0B0D38#32
  | 90 => 0x3EAC39F0#32
  | 91 => 0x3FEBBE7C#32
  | 92 => 0x3FC697DA#32
  | 93 => 0x3FD9D61A#32
  | 94 => 0x3F59D648#32
  | 95 => 0xBE8664FC#32
  | 96 => 0x3FDBBAEE#32
  | 97 => 0xBF8E1D8A#32
  | 98 => 0x3FC21DEB#32
  | 99 => 0x3F075B4D#32
  | 100 => 0x3F879213#32
  | 101 => 0x3FA1FF4E#32
  | 102 => 0xBF10E704#32
  | 103 => 0x4023592D#32
  | 104 => 0x403E3AD8#32
  | 105 => 0x3EADBA3D#32
  | 106 => 0xBED54D6D#32
  | 107 => 0x3FA0DAAE#32
  | 108 => 0x3F7940FA#32
  | 109 => 0x3F21ABEA#32
  | 110 => 0x3B28A17E#32
  | 111 => 0xBE961A61#32
  | 112 => 0x3F98D08A#32
  | 113 => 0x3E296F69#32
  | 114 => 0xBF2C9AF4#32
  | 115 => 0x40423E43#32
  | 116 => 0x3F4E9D48#32
  | 117 => 0x404F56BD#32
  | 118 => 0xBEFE2746#32
  | 119 => 0xBF01CE08#32
  | 120 => 0xBF06E109#32
  | 121 => 0xBF823E18#32
  | 122 => 0xBF82A328#32
  | 123 => 0x3EB72D8A#32
  | 124 => 0x3F06CF83#32
  | 125 => 0x3EF3C206#32
  | 126 => 0x3FD1A3EC#32
  | 127 => 0x3FE9AE76#32
  | _ => 0#32

noncomputable abbrev lit0t0_265 (i : Nat) : BitVec 32 := match i % 128 with
  | 0 => 0xBD63E16E#32
  | 1 => 0x3F631391#32
  | 2 => 0xBF477624#32
  | 3 => 0x3F703837#32
  | 4 => 0x3F019A97#32
  | 5 => 0xBF4F4C50#32
  | 6 => 0x4058CF09#32
  | 7 => 0x3FA606DB#32
  | 8 => 0x3E8A7518#32
  | 9 => 0x3FE8F439#32
  | 10 => 0x3EFC6E94#32
  | 11 => 0xBE8C169E#32
  | 12 => 0x403FD1EC#32
  | 13 => 0x4020C8F5#32
  | 14 => 0x3E6CD038#32
  | 15 => 0x3F9D8C85#32
  | 16 => 0x3FE52C25#32
  | 17 => 0x3D42D58C#32
  | 18 => 0x3FB73E89#32
  | 19 => 0x3E36AB49#32
  | 20 => 0x3FA144E0#32
  | 21 => 0x3E093B57#32
  | 22 => 0x3DE2A995#32
  | 23 => 0xBE8EFD09#32
  | 24 => 0xBE80E203#32
  | 25 => 0x3E6B0E8A#32
  | 26 => 0x3EEA5064#32
  | 27 => 0xBF070916#32
  | 28 => 0x3E3E697D#32
  | 29 => 0x3FDDE1D3#32
  | 30 => 0x3F28114C#32
  | 31 => 0x4081733B#32
  | 32 => 0x3F1BC304#32
  | 33 => 0x3EE3BA4D#32
  | 34 => 0xBF4C2B41#32
  | 35 => 0xBF9C101E#32
  | 36 => 0xBE951A3B#32
  | 37 => 0x3F010767#32
  | 38 => 0xBFAD0639#32
  | 39 => 0xBF5A0C3C#32
  | 40 => 0xBE6F057B#32
  | 41 => 0xBF84CBAC#32
  | 42 => 0xBEC4584C#32
  | 43 => 0xBE8D9295#32
  | 44 => 0xBF06CC90#32
  | 45 => 0x405D63DE#32
  | 46 => 0x3DF6DA99#32
  | 47 => 0xBFB67B2C#32
  | 48 => 0x403C644A#32
  | 49 => 0x3E1A396E#32
  | 50 => 0x3FE22E96#32
  | 51 => 0x3DC468BE#32
  | 52 => 0xBE778530#32
  | 53 => 0x3F018A78#32
  | 54 => 0x3FD16713#32
  | 55 => 0x40537C63#32
  | 56 => 0x3FDCEA9A#32
  | 57 => 0xBEDDAA80#32
  | 58 => 0x3ADF4EAB#32
  | 59 => 0xBDBD60E4#32
  | 60 => 0x3ED9701D#32
  | 61 => 0x3FFF9D82#32
  | 62 => 0xBE84416F#32
  | 63 => 0xBEEB4E3D#32
  | 64 => 0x3F8CCF26#32
  | 65 => 0x3D0BE6FE#32
  | 66 => 0x3F898FB4#32
  | 67 => 0xBF61DA60#32
  | 68 => 0x3F058174#32
  | 69 => 0x3E395F17#32
  | 70 => 0x3FBE2030#32
  | 71 => 0xBF51C107#32
  | 72 => 0x3FC8964F#32
  | 73 => 0x3EA1F23A#32
  | 74 => 0x3F3FAE54#32
  | 75 => 0x3FBADE2A#32
  | 76 => 0x40432BA2#32
  | 77 => 0xBFEB87A2#32
  | 78 => 0x3EDD3363#32
  | 79 => 0x3EFF1499#32
  | 80 => 0x3DDCE84C#32
  | 81 => 0x3F0DDA18#32
  | 82 => 0x3F222EA6#32
  | 83 => 0xBFE652C3#32
  | 84 => 0x3F0D8032#32
  | 85 => 0x3F04FCD6#32
  | 86 => 0x3FF059E5#32
  | 87 => 0x3D570896#32
  | 88 => 0x3DA88F39#32
  | 89 => 0x3EB18BE9#32
  | 90 => 0x3E63E8DE#32
  | 91 => 0xBF330FE1#32
  | 92 => 0x4062F66D#32
  | 93 => 0x3F823245#32
  | 94 => 0xBEA73777#32
  | 95 => 0x40114D09#32
  | 96 => 0xBCD5533C#32
  | 97 => 0x3E929626#32
  | 98 => 0x3F517B31#32
  | 99 => 0x3F839EA7#32
  | 100 => 0xBEB742CB#32
  | 101 => 0x3EA4FA6A#32
  | 102 => 0x3FCD582C#32
  | 103 => 0x3C8737DF#32
  | 104 => 0x3F606C9D#32
  | 105 => 0x3EEF909B#32
  | 106 => 0x3F14CDA9#32
  | 107 => 0x3F4A77B8#32
  | 108 => 0x3EC96273#32
  | 109 => 0xBEC41F08#32
  | 110 => 0x3ECFCEA0#32
  | 111 => 0xBF5EAEFB#32
  | 112 => 0xBDF07116#32
  | 113 => 0xBF0FE878#32
  | 114 => 0x3F5B7EC6#32
  | 115 => 0xBF8461D4#32
  | 116 => 0xBE1FA4EF#32
  | 117 => 0x40495C9A#32
  | 118 => 0x3F88C710#32
  | 119 => 0x3F0CFC93#32
  | 120 => 0x3EA2158C#32
  | 121 => 0x3FA1B07E#32
  | 122 => 0xBF821BC6#32
  | 123 => 0x3F97CD31#32
  | 124 => 0xBF332559#32
  | 125 => 0x3F5B743E#32
  | 126 => 0x3FB96A09#32
  | 127 => 0x3F325B36#32
  | _ => 0#32

noncomputable abbrev lit0t0_266 (i : Nat) : BitVec 32 := match i % 128 with
  | 0 => 0x3F4A737E#32
  | 1 => 0x3EA8C9B3#32
  | 2 => 0x3FC1B65A#32
  | 3 => 0x3EF1ED20#32
  | 4 => 0x3D91056F#32
  | 5 => 0xBF02B95E#32
  | 6 => 0x3EAB56BA#32
  | 7 => 0x3FDC31F2#32
  | 8 => 0x4004C349#32
  | 9 => 0xBF281B0A#32
  | 10 => 0xBFE5EDC0#32
  | 11 => 0x3FF32519#32
  | 12 => 0xBF9BCA7C#32
  | 13 => 0xBFB18E1B#32
  | 14 => 0x3F57CBC0#32
  | 15 => 0x3D733F48#32
  | 16 => 0xBF8DC550#32
  | 17 => 0x3F0CD531#32
  | 18 => 0x3F171556#32
  | 19 => 0xBF18B504#32
  | 20 => 0x3DE4B285#32
  | 21 => 0x3FBFE719#32
  | 22 => 0x3FAC2965#32
  | 23 => 0xBF833DE1#32
  | 24 => 0xBEE3ADAC#32
  | 25 => 0xBF25919E#32
  | 26 => 0x400C1801#32
  | 27 => 0x3CF50754#32
  | 28 => 0x3D1E1D8F#32
  | 29 => 0x3F5D5EAE#32
  | 30 => 0xBF7EA2B8#32
  | 31 => 0xBECA3DC1#32
  | 32 => 0x3F717866#32
  | 33 => 0x3F997C4A#32
  | 34 => 0x3FF61C7C#32
  | 35 => 0xBF84D373#32
  | 36 => 0x3E89D730#32
  | 37 => 0xBF19ED92#32
  | 38 => 0xBF2E2DFE#32
  | 39 => 0xBDADAD53#32
  | 40 => 0xBC01DEE2#32
  | 41 => 0x3FDAD2AC#32
  | 42 => 0xBF5CFC84#32
  | 43 => 0xBCB6E104#32
  | 44 => 0x404C2B0E#32
  | 45 => 0xBD4EDBFE#32
  | 46 => 0x3FC2E808#32
  | 47 => 0xBFB0555B#32
  | 48 => 0x3F8FC40C#32
  | 49 => 0x3E3B5464#32
  | 50 => 0x3FBC14C5#32
  | 51 => 0xBE714287#32
  | 52 => 0x3E9745BB#32
  | 53 => 0x3FED2ABB#32
  | 54 => 0xBF71BCD6#32
  | 55 => 0x3ED6D81A#32
  | 56 => 0xBF97295D#32
  | 57 => 0x3EDE91CD#32
  | 58 => 0x408C2AC8#32
  | 59 => 0x40114F28#32
  | 60 => 0x3F14C66D#32
  | 61 => 0x3F1EF3F5#32
  | 62 => 0x3FB8A8B4#32
  | 63 => 0xBE9A8B28#32
  | 64 => 0x3FC0213F#32
  | 65 => 0xBF8131D8#32
  | 66 => 0x3F0979B8#32
  | 67 => 0x3F51491A#32
  | 68 => 0x3EE4881C#32
  | 69 => 0x3E877D07#32
  | 70 => 0x3FBC9170#32
  | 71 => 0x3F67A558#32
  | 72 => 0xBDC0F947#32
  | 73 => 0x3EDFAA1D#32
  | 74 => 0x3F18A7AE#32
  | 75 => 0x3C4CD05D#32
  | 76 => 0x3F3C4519#32
  | 77 => 0xBEF96AB6#32
  | 78 => 0x409B59BD#32
  | 79 => 0x3FA05A2A#32
  | 80 => 0xBF195B68#32
  | 81 => 0xBEC9DF12#32
  | 82 => 0x3D09373E#32
  | 83 => 0x3FC9EB8D#32
  | 84 => 0xBEE01BC5#32
  | 85 => 0x3FFD9ACF#32
  | 86 => 0xBF07B529#32
  | 87 => 0x3F900FAD#32
  | 88 => 0x3DBED673#32
  | 89 => 0xBF0CF203#32
  | 90 => 0x3FDACED1#32
  | 91 => 0x40155A4E#32
  | 92 => 0x3ED8B027#32
  | 93 => 0x3EDBD667#32
  | 94 => 0x3F8D20AA#32
  | 95 => 0xBF23083E#32
  | 96 => 0x3F246A84#32
  | 97 => 0xBE821FD0#32
  | 98 => 0x3FA91118#32
  | 99 => 0xBE264936#32
  | 100 => 0x3C18FCC9#32
  | 101 => 0x403B816A#32
  | 102 => 0xBF59DC92#32
  | 103 => 0x3F86AF2C#32
  | 104 => 0x3F8E6163#32
  | 105 => 0xBBB8D44E#32
  | 106 => 0x3F9A1ECB#32
  | 107 => 0x400C7088#32
  | 108 => 0x3F3BBC3C#32
  | 109 => 0x3F833AF5#32
  | 110 => 0x3F8DE243#32
  | 111 => 0x3EEF8508#32
  | 112 => 0x3F310916#32
  | 113 => 0xBF950CC7#32
  | 114 => 0x3F08D857#32
  | 115 => 0x405DC32A#32
  | 116 => 0x4002B679#32
  | 117 => 0xBF30F86C#32
  | 118 => 0xBED88A1F#32
  | 119 => 0xBF26BF83#32
  | 120 => 0x3DD4ABF8#32
  | 121 => 0xBF44D024#32
  | 122 => 0x3E647AFF#32
  | 123 => 0x3FA26720#32
  | 124 => 0x401BCF5C#32
  | 125 => 0xBF890C1A#32
  | 126 => 0x3FA750C2#32
  | 127 => 0x3E8D3F6C#32
  | _ => 0#32

noncomputable abbrev lit0t0_267 (i : Nat) : BitVec 32 := match i % 128 with
  | 0 => 0xBF5CEB71#32
  | 1 => 0x3F34D0FC#32
  | 2 => 0x3F7975CE#32
  | 3 => 0x403E0E28#32
  | 4 => 0xBF69EF9E#32
  | 5 => 0x3F8E1DED#32
  | 6 => 0x40771681#32
  | 7 => 0x3F95D055#32
  | 8 => 0x3F51FF5F#32
  | 9 => 0x3F8366E4#32
  | 10 => 0xBFA375A0#32
  | 11 => 0xBEC9CF6C#32
  | 12 => 0x3F80B55D#32
  | 13 => 0x3E7A7487#32
  | 14 => 0x3E844DD1#32
  | 15 => 0xBDACEAEE#32
  | 16 => 0x3DA6F90F#32
  | 17 => 0x408B8B9E#32
  | 18 => 0x3F3049F2#32
  | 19 => 0x3CBC5954#32
  | 20 => 0xBEE23F78#32
  | 21 => 0xBF0801B0#32
  | 22 => 0xBE98E437#32
  | 23 => 0x3B00843D#32
  | 24 => 0xBEB3593C#32
  | 25 => 0x3F80AFDE#32
  | 26 => 0x3EE470B8#32
  | 27 => 0x3E4FC733#32
  | 28 => 0x3FAFC252#32
  | 29 => 0xBE764498#32
  | 30 => 0x3FDC42F1#32
  | 31 => 0xBEED6C7A#32
  | 32 => 0x3FA2E3FB#32
  | 33 => 0xBDBEABC9#32
  | 34 => 0xBE9CE517#32
  | 35 => 0x3EC82EE4#32
  | 36 => 0x3DFEDD27#32
  | 37 => 0xBD843033#32
  | 38 => 0x3F953C58#32
  | 39 => 0xBE635F83#32
  | 40 => 0x3ECC75F5#32
  | 41 => 0x3FEBE056#32
  | 42 => 0xBEFAE146#32
  | 43 => 0xBF978EE4#32
  | 44 => 0xBFA4054C#32
  | 45 => 0xBF5B29FF#32
  | 46 => 0x3FB9E257#32
  | 47 => 0xC005B6CF#32
  | 48 => 0x3DD1737B#32
  | 49 => 0xBE80E87D#32
  | 50 => 0x3F55F772#32
  | 51 => 0xBEEC4B00#32
  | 52 => 0x3E3CD7FE#32
  | 53 => 0x3F1C8F8D#32
  | 54 => 0x3F4A838B#32
  | 55 => 0x3DFA9631#32
  | 56 => 0x40110B6B#32
  | 57 => 0xBF78832C#32
  | 58 => 0xBFBDA14C#32
  | 59 => 0xBF76480F#32
  | 60 => 0x3F1D7A6D#32
  | 61 => 0x3F084337#32
  | 62 => 0x3E46FCC7#32
  | 63 => 0xBE0E15C2#32
  | 64 => 0x3FEF6EFB#32
  | 65 => 0x3FBAF202#32
  | 66 => 0x402627E4#32
  | 67 => 0x3FDA4482#32
  | 68 => 0x3EE83C96#32
  | 69 => 0xBF67A205#32
  | 70 => 0xBF5745A4#32
  | 71 => 0x3F95E36A#32
  | 72 => 0xBEF1FAB2#32
  | 73 => 0xBD50D388#32
  | 74 => 0xBD109958#32
  | 75 => 0x3FDBC41E#32
  | 76 => 0x3F7C880A#32
  | 77 => 0x3CAB9388#32
  | 78 => 0x3E0E1939#32
  | 79 => 0x3FA35EA8#32
  | 80 => 0x3F9BDC5A#32
  | 81 => 0x3FDC3835#32
  | 82 => 0x3FBBBEAA#32
  | 83 => 0x3F40108D#32
  | 84 => 0xBFB33C67#32
  | 85 => 0xBF9185ED#32
  | 86 => 0xBF96DC93#32
  | 87 => 0x3E9CF425#32
  | 88 => 0x3FEFCC03#32
  | 89 => 0x3FD598AE#32
  | 90 => 0xBEC8DDD8#32
  | 91 => 0xBD73AE43#32
  | 92 => 0x3F4452D2#32
  | 93 => 0xBEC6EA46#32
  | 94 => 0xBF70F521#32
  | 95 => 0x3F7BA292#32
  | 96 => 0x3EE7615A#32
  | 97 => 0x3E147854#32
  | 98 => 0x403FA85B#32
  | 99 => 0x3FD113F7#32
  | 100 => 0x3F51E6F6#32
  | 101 => 0x3D8AE744#32
  | 102 => 0xBF881EA9#32
  | 103 => 0x3F8CB298#32
  | 104 => 0xBCC8F6C5#32
  | 105 => 0x3FB8BB12#32
  | 106 => 0x3ED5C49E#32
  | 107 => 0x3F451C71#32
  | 108 => 0x3F899BE4#32
  | 109 => 0x3E8C6773#32
  | 110 => 0xBFCDE8D3#32
  | 111 => 0xBFD2E689#32
  | 112 => 0x3F1A617C#32
  | 113 => 0x40122D3F#32
  | 114 => 0x402B0F57#32
  | 115 => 0x3F8FF2A4#32
  | 116 => 0xBFD2E4C6#32
  | 117 => 0xBF2F81D5#32
  | 118 => 0x3FDAF606#32
  | 119 => 0xBF525E49#32
  | 120 => 0xBDC51B07#32
  | 121 => 0x3E973E92#32
  | 122 => 0x3F255E1A#32
  | 123 => 0x3EDCDF17#32
  | 124 => 0x3DA81F19#32
  | 125 => 0xBF0E8E79#32
  | 126 => 0x3F9D777B#32
  | 127 => 0x3F86CD72#32
  | _ => 0#32

noncomputable abbrev lit0t0_268 (i : Nat) : BitVec 32 := match i % 128 with
  | 0 => 0x3F1FE032#32
  | 1 => 0x400345DD#32
  | 2 => 0xBF893129#32
  | 3 => 0x3EF8E100#32
  | 4 => 0xBF28E37D#32
  | 5 => 0x3F8BFE2F#32
  | 6 => 0x3F0AB8E9#32
  | 7 => 0xBF51D214#32
  | 8 => 0x3EB08F42#32
  | 9 => 0x3D051599#32
  | 10 => 0x3FBA9061#32
  | 11 => 0x3F9B8168#32
  | 12 => 0x40AC153F#32
  | 13 => 0xBE9EBDEA#32
  | 14 => 0xBF7238DB#32
  | 15 => 0x3F182231#32
  | 16 => 0x3F54F794#32
  | 17 => 0x3ED159D9#32
  | 18 => 0x3F419B79#32
  | 19 => 0x3EE37FB9#32
  | 20 => 0x3F726B06#32
  | 21 => 0xBF4F6F18#32
  | 22 => 0x3EA699ED#32
  | 23 => 0x3EC72298#32
  | 24 => 0x3E811CAB#32
  | 25 => 0x3F22C4AB#32
  | 26 => 0x3FB9D3B9#32
  | 27 => 0x3F2B92C0#32
  | 28 => 0x3F52C481#32
  | 29 => 0x3D19DF26#32
  | 30 => 0x3F92C2D2#32
  | 31 => 0xBF1F5DFC#32
  | 32 => 0x3F114DF8#32
  | 33 => 0x3DC4BFF1#32
  | 34 => 0x3DA2A7FD#32
  | 35 => 0xBF21A53A#32
  | 36 => 0xBEEFB0D9#32
  | 37 => 0x3F180FF7#32
  | 38 => 0x3FC44F0F#32
  | 39 => 0x3DC87E3C#32
  | 40 => 0x4001C167#32
  | 41 => 0x4018BA23#32
  | 42 => 0x3FBB30D7#32
  | 43 => 0x4002CC16#32
  | 44 => 0xBE267C07#32
  | 45 => 0x3E05EFD4#32
  | 46 => 0x3F7F2836#32
  | 47 => 0x3F44882C#32
  | 48 => 0x3F1C623F#32
  | 49 => 0x3F25DF07#32
  | 50 => 0x3E28BD0B#32
  | 51 => 0xBF06ED54#32
  | 52 => 0x401CFAC1#32
  | 53 => 0xBB7BC40A#32
  | 54 => 0x3F968026#32
  | 55 => 0xBEF186BE#32
  | 56 => 0x3F047200#32
  | 57 => 0x3C435CFF#32
  | 58 => 0x3F13F381#32
  | 59 => 0x3EB4F006#32
  | 60 => 0x40C776E2#32
  | 61 => 0xBEC64CE6#32
  | 62 => 0x401DDC69#32
  | 63 => 0xBF001595#32
  | 64 => 0x3F043CAE#32
  | 65 => 0x3F7C8A2C#32
  | 66 => 0x40240107#32
  | 67 => 0xBF8E3178#32
  | 68 => 0x3DDF03B4#32
  | 69 => 0x3EF567BF#32
  | 70 => 0xBE82D182#32
  | 71 => 0x3D9183CD#32
  | 72 => 0x3F77E170#32
  | 73 => 0x4017322E#32
  | 74 => 0xBC72ED2C#32
  | 75 => 0x3F3D5E05#32
  | 76 => 0x3FA6B813#32
  | 77 => 0xBF0F035B#32
  | 78 => 0x3ECE8B6B#32
  | 79 => 0x40538529#32
  | 80 => 0xBF468172#32
  | 81 => 0x3FCD291D#32
  | 82 => 0x400F1631#32
  | 83 => 0x3DDFE856#32
  | 84 => 0x401B722F#32
  | 85 => 0xBF418538#32
  | 86 => 0xBF305968#32
  | 87 => 0x3F3E2F2A#32
  | 88 => 0x3EF05C56#32
  | 89 => 0xBF9B0C2A#32
  | 90 => 0xBFC2E58C#32
  | 91 => 0xBFA2CD78#32
  | 92 => 0xBF11AF71#32
  | 93 => 0x4099B76D#32
  | 94 => 0xBEA71224#32
  | 95 => 0xBFC3F122#32
  | 96 => 0xBF018EF3#32
  | 97 => 0xBE93B092#32
  | 98 => 0x406E18C2#32
  | 99 => 0x3F3CCCD7#32
  | 100 => 0x3FE5FA02#32
  | 101 => 0x3FAC1950#32
  | 102 => 0xBEAE33CD#32
  | 103 => 0x3EB84141#32
  | 104 => 0x3F770271#32
  | 105 => 0x3ED0AF53#32
  | 106 => 0x3F11FCFD#32
  | 107 => 0x3F08195D#32
  | 108 => 0x3D1A400A#32
  | 109 => 0xBEBF2398#32
  | 110 => 0x4017A2A0#32
  | 111 => 0xBF558492#32
  | 112 => 0xBC4D9276#32
  | 113 => 0x3F540515#32
  | 114 => 0x3F80E015#32
  | 115 => 0x3D0C1ABB#32
  | 116 => 0xBD5C4799#32
  | 117 => 0x3FD7AC32#32
  | 118 => 0x3EE08A7C#32
  | 119 => 0xBF9A03CB#32
  | 120 => 0xBF3C9CC4#32
  | 121 => 0xBE26C9A7#32
  | 122 => 0x4096C433#32
  | 123 => 0x3F37C59B#32
  | 124 => 0xBF289E31#32
  | 125 => 0x403EF641#32
  | 126 => 0xBF73CBF8#32
  | 127 => 0x3E4D3F53#32
  | _ => 0#32

noncomputable abbrev lit0t0_269 (i : Nat) : BitVec 32 := match i % 128 with
  | 0 => 0x3FB1362D#32
  | 1 => 0x3E034CB1#32
  | 2 => 0x3F356D9C#32
  | 3 => 0x3F1366B7#32
  | 4 => 0x3F33CCB3#32
  | 5 => 0x3F746F8C#32
  | 6 => 0x3F30A20F#32
  | 7 => 0xBE2280D3#32
  | 8 => 0xBF6A0956#32
  | 9 => 0x3F83D6B5#32
  | 10 => 0x3F2B52BD#32
  | 11 => 0x3ED40943#32
  | 12 => 0x3F929514#32
  | 13 => 0x3EBB4F95#32
  | 14 => 0xBF8C7B48#32
  | 15 => 0x3ECCD58C#32
  | 16 => 0x3E50EFBB#32
  | 17 => 0xBF3C53A6#32
  | 18 => 0xBF262540#32
  | 19 => 0x3FFF826D#32
  | 20 => 0x4046FE9E#32
  | 21 => 0x3EFC6D08#32
  | 22 => 0xBD8FC498#32
  | 23 => 0x3FA15BF6#32
  | 24 => 0x40A5AD38#32
  | 25 => 0x3EDE560A#32
  | 26 => 0x3F66FF29#32
  | 27 => 0x3F8AAA54#32
  | 28 => 0x3FB6698D#32
  | 29 => 0xBE09739B#32
  | 30 => 0x3F1A1972#32
  | 31 => 0x3F6F0506#32
  | 32 => 0x3F561782#32
  | 33 => 0x3DC31212#32
  | 34 => 0xBE803E7F#32
  | 35 => 0xBD220F94#32
  | 36 => 0xBF984C87#32
  | 37 => 0x3E22DEE5#32
  | 38 => 0x3F2A8D38#32
  | 39 => 0xBEF5C7D5#32
  | 40 => 0x3EB7DBB7#32
  | 41 => 0xBF6083E3#32
  | 42 => 0x400623A1#32
  | 43 => 0x401B7665#32
  | 44 => 0xBD3A0C04#32
  | 45 => 0x3F37D7C9#32
  | 46 => 0x4030ECAE#32
  | 47 => 0x3E7BDD51#32
  | 48 => 0x3EC78CE7#32
  | 49 => 0xBF413886#32
  | 50 => 0x3FD70DCA#32
  | 51 => 0x3F497D42#32
  | 52 => 0x3FBF104B#32
  | 53 => 0xBF3353F1#32
  | 54 => 0x3F4D9446#32
  | 55 => 0x3F64A603#32
  | 56 => 0x3FAA38A1#32
  | 57 => 0xBEE6FB7E#32
  | 58 => 0x3F781822#32
  | 59 => 0x3F31277D#32
  | 60 => 0xBF6E3943#32
  | 61 => 0x3F19017C#32
  | 62 => 0x402B5860#32
  | 63 => 0x3FCB08DE#32
  | 64 => 0x3E47AAC1#32
  | 65 => 0x3E85449F#32
  | 66 => 0x3F393494#32
  | 67 => 0x3E72A6F2#32
  | 68 => 0xBF8C18A6#32
  | 69 => 0xBF9E1F1E#32
  | 70 => 0x3F7BBE12#32
  | 71 => 0x3F240FC0#32
  | 72 => 0x3F1E3ECC#32
  | 73 => 0x3F9710C4#32
  | 74 => 0x3C41BD17#32
  | 75 => 0x3EBC317A#32
  | 76 => 0x3F024254#32
  | 77 => 0x3E814B49#32
  | 78 => 0xBCB9636A#32
  | 79 => 0x4062E858#32
  | 80 => 0x3C5652CD#32
  | 81 => 0xBF514D75#32
  | 82 => 0xBEC9ED2F#32
  | 83 => 0x3FB56081#32
  | 84 => 0xBF0BE3F2#32
  | 85 => 0x3E868525#32
  | 86 => 0x3E937EF1#32
  | 87 => 0xBE5D8FE4#32
  | 88 => 0xBF124EE7#32
  | 89 => 0xBFF3753F#32
  | 90 => 0x3D544ABA#32
  | 91 => 0x3E9C0C5F#32
  | 92 => 0x3F3F050F#32
  | 93 => 0x3FB6ED2A#32
  | 94 => 0x4034427C#32
  | 95 => 0xBF12A1AA#32
  | 96 => 0x3F1201AE#32
  | 97 => 0x3F677ED5#32
  | 98 => 0x3F79D9DA#32
  | 99 => 0x3FCEF0F9#32
  | 100 => 0xBEA0DF61#32
  | 101 => 0x3F02A0B4#32
  | 102 => 0x3F413A67#32
  | 103 => 0x401529DE#32
  | 104 => 0x3F584F05#32
  | 105 => 0x3FAC9B9D#32
  | 106 => 0x3F89AFFE#32
  | 107 => 0xBEB6098F#32
  | 108 => 0x400A03FD#32
  | 109 => 0x3F4C304C#32
  | 110 => 0xBF5A43D8#32
  | 111 => 0xBFAFF478#32
  | 112 => 0x4026735B#32
  | 113 => 0xBF1266B5#32
  | 114 => 0x3F7D41DA#32
  | 115 => 0xBFA1EA7C#32
  | 116 => 0x3F898FE2#32
  | 117 => 0x3CDE1ADF#32
  | 118 => 0xBECE0596#32
  | 119 => 0xBF875CCC#32
  | 120 => 0x408B99F6#32
  | 121 => 0x3FA346D6#32
  | 122 => 0x3FEC61CF#32
  | 123 => 0xBEDA3AE0#32
  | 124 => 0x3F64D435#32
  | 125 => 0xBF69170B#32
  | 126 => 0x3EC6534B#32
  | 127 => 0x3EC8A770#32
  | _ => 0#32

noncomputable abbrev lit0t0_270 (i : Nat) : BitVec 32 := match i % 128 with
  | 0 => 0x3F21C52C#32
  | 1 => 0xBFA66C2F#32
  | 2 => 0x40166555#32
  | 3 => 0xBFA150BD#32
  | 4 => 0xBF808F70#32
  | 5 => 0x3F80B011#32
  | 6 => 0x3F898CA9#32
  | 7 => 0x3B7BFBDB#32
  | 8 => 0xBE9B2A75#32
  | 9 => 0x3F098196#32
  | 10 => 0xBE9D7E9A#32
  | 11 => 0xBF7B9119#32
  | 12 => 0x3D2B8E99#32
  | 13 => 0x3B3A93ED#32
  | 14 => 0xBE12CD13#32
  | 15 => 0x3F9BD338#32
  | 16 => 0x3E620765#32
  | 17 => 0x3F944AF1#32
  | 18 => 0x3EE25C8A#32
  | 19 => 0x3F1EF323#32
  | 20 => 0x3F51167C#32
  | 21 => 0x3FD065F9#32
  | 22 => 0x3F1F79E8#32
  | 23 => 0x3FD0F996#32
  | 24 => 0xBF107FB0#32
  | 25 => 0xBEC270A0#32
  | 26 => 0x3DD860E7#32
  | 27 => 0xBE14E44A#32
  | 28 => 0xBECB65A1#32
  | 29 => 0x4004C9E2#32
  | 30 => 0x400AB293#32
  | 31 => 0xBE85DB46#32
  | 32 => 0x3C8BA7A4#32
  | 33 => 0x412CFFE7#32
  | 34 => 0x401D5211#32
  | 35 => 0x3F8CAA90#32
  | 36 => 0x40511AD1#32
  | 37 => 0xBF217674#32
  | 38 => 0xBDD01299#32
  | 39 => 0x3E8E64DE#32
  | 40 => 0xBF40AFAC#32
  | 41 => 0xBEB39E63#32
  | 42 => 0x3F2CC6F3#32
  | 43 => 0xBEC07EF9#32
  | 44 => 0x40155273#32
  | 45 => 0x3EDA8B39#32
  | 46 => 0xBFBB4F52#32
  | 47 => 0x3FA6A75F#32
  | 48 => 0x3FACC362#32
  | 49 => 0x3F67E6A0#32
  | 50 => 0x400BD93D#32
  | 51 => 0x3F2F8367#32
  | 52 => 0xBF6E228E#32
  | 53 => 0x3FE44F74#32
  | 54 => 0x3F8ED420#32
  | 55 => 0x3FC40935#32
  | 56 => 0x3FD131E3#32
  | 57 => 0xBE917DEC#32
  | 58 => 0x40209C94#32
  | 59 => 0xBFB6035F#32
  | 60 => 0x3FA91A0B#32
  | 61 => 0xBF08A6A1#32
  | 62 => 0x3FEF57B4#32
  | 63 => 0xBF0240E4#32
  | 64 => 0x409F3E54#32
  | 65 => 0x40C27AB7#32
  | 66 => 0xBEB5AA2F#32
  | 67 => 0x3F893559#32
  | 68 => 0xBF47B9BA#32
  | 69 => 0xBEBE8906#32
  | 70 => 0x3FBE136D#32
  | 71 => 0x3EB84B6E#32
  | 72 => 0xBEDE0B5F#32
  | 73 => 0xBFA86668#32
  | 74 => 0x3F988CE4#32
  | 75 => 0x400F29E6#32
  | 76 => 0xBEABE77A#32
  | 77 => 0x3ECB7518#32
  | 78 => 0xBF9B34B1#32
  | 79 => 0x3ED8475C#32
  | 80 => 0xBFB5972D#32
  | 81 => 0x3FE0160C#32
  | 82 => 0xBFBDB7CE#32
  | 83 => 0x3F83E07B#32
  | 84 => 0xBEA2D344#32
  | 85 => 0x3E894E35#32
  | 86 => 0x3EE3DACA#32
  | 87 => 0xBF9DEA3A#32
  | 88 => 0xBE8383E0#32
  | 89 => 0x40A12E6A#32
  | 90 => 0x3E658C2D#32
  | 91 => 0x3FD760AF#32
  | 92 => 0x3F875313#32
  | 93 => 0x3F018627#32
  | 94 => 0x3D7D7276#32
  | 95 => 0xBEE90C7C#32
  | 96 => 0xBF196DB1#32
  | 97 => 0x3F68C48A#32
  | 98 => 0xBE52794B#32
  | 99 => 0x3FDDE5F8#32
  | 100 => 0xBFCE0AFF#32
  | 101 => 0x3E0C3AA8#32
  | 102 => 0xBEFB18D1#32
  | 103 => 0xBF3ACB8A#32
  | 104 => 0x3F5C74A3#32
  | 105 => 0xBF3B8988#32
  | 106 => 0xBF7E0304#32
  | 107 => 0x3F01A55E#32
  | 108 => 0xBF9CF7F9#32
  | 109 => 0x3F57B08A#32
  | 110 => 0xBF38877E#32
  | 111 => 0xBE915C2B#32
  | 112 => 0xBF0FED34#32
  | 113 => 0x3F4C93D5#32
  | 114 => 0x3FD7EBCA#32
  | 115 => 0x3F83F739#32
  | 116 => 0xBF3686AC#32
  | 117 => 0xBCD47DDA#32
  | 118 => 0x3EF27BFA#32
  | 119 => 0xBE0E6869#32
  | 120 => 0x3FE1C800#32
  | 121 => 0x3F760FCC#32
  | 122 => 0x3FB4006D#32
  | 123 => 0x3ECCB2B0#32
  | 124 => 0xBDF35511#32
  | 125 => 0x40509160#32
  | 126 => 0x3E90BEC6#32
  | 127 => 0xBE97824B#32
  | _ => 0#32

noncomputable abbrev lit0t0_271 (i : Nat) : BitVec 32 := match i % 128 with
  | 0 => 0x3EAE6000#32
  | 1 => 0xBEFCDA20#32
  | 2 => 0x3FB43E53#32
  | 3 => 0x3F1FF934#32
  | 4 => 0xBE66DE51#32
  | 5 => 0x40DAD8F3#32
  | 6 => 0x3FB94EB4#32
  | 7 => 0x4002D63B#32
  | 8 => 0xBEA78F35#32
  | 9 => 0x3F35ADBA#32
  | 10 => 0x3E8852BD#32
  | 11 => 0xBE1E0D69#32
  | 12 => 0xBF42E741#32
  | 13 => 0x3FC47814#32
  | 14 => 0xBF489BB1#32
  | 15 => 0xBE823213#32
  | 16 => 0xBE5D62F5#32
  | 17 => 0xBF953070#32
  | 18 => 0xBEF08376#32
  | 19 => 0x409F2ECF#32
  | 20 => 0xBF2D05AF#32
  | 21 => 0x3F5020EF#32
  | 22 => 0x3F32E8DE#32
  | 23 => 0x409604E6#32
  | 24 => 0x3F6C07CC#32
  | 25 => 0xBECC01B8#32
  | 26 => 0x4050DF66#32
  | 27 => 0xBE5A949C#32
  | 28 => 0xBC9D3364#32
  | 29 => 0xBFC12F24#32
  | 30 => 0xBF5EA701#32
  | 31 => 0xBF83BE98#32
  | 32 => 0x3F84E4F5#32
  | 33 => 0x400AE576#32
  | 34 => 0xBE31CCFE#32
  | 35 => 0x400B14C3#32
  | 36 => 0xBECDC61B#32
  | 37 => 0x4016532F#32
  | 38 => 0x3E876F78#32
  | 39 => 0xBD08E0EE#32
  | 40 => 0xBF19A71F#32
  | 41 => 0x3E669BC5#32
  | 42 => 0xBEF952B6#32
  | 43 => 0x405FDE01#32
  | 44 => 0x3FBA6BD2#32
  | 45 => 0x3F2D2D90#32
  | 46 => 0x4014A4ED#32
  | 47 => 0x402873AA#32
  | 48 => 0x3FC7CEAE#32
  | 49 => 0x3F981CF7#32
  | 50 => 0xBF4A69AA#32
  | 51 => 0xBEE17F0B#32
  | 52 => 0xBF935503#32
  | 53 => 0x3E56E916#32
  | 54 => 0x40232A7C#32
  | 55 => 0x3F46BD92#32
  | 56 => 0xBF3968BC#32
  | 57 => 0x3FC0254C#32
  | 58 => 0xBF8C1444#32
  | 59 => 0x407981A3#32
  | 60 => 0x3FFA57C4#32
  | 61 => 0x3E8DE80E#32
  | 62 => 0xBF8232A0#32
  | 63 => 0x3F188360#32
  | 64 => 0xBE0DF604#32
  | 65 => 0x3FD32224#32
  | 66 => 0x3FF6B5AE#32
  | 67 => 0x3EDC5AF9#32
  | 68 => 0x400DFFA5#32
  | 69 => 0x3F7BD3DE#32
  | 70 => 0x3FA4B472#32
  | 71 => 0x3EF0BA4E#32
  | 72 => 0x4027B62E#32
  | 73 => 0x40395E33#32
  | 74 => 0x40081A0B#32
  | 75 => 0x3FE8954A#32
  | 76 => 0xBCC2933C#32
  | 77 => 0x40284F85#32
  | 78 => 0xBE3ED37E#32
  | 79 => 0x3F23A81E#32
  | 80 => 0xBE6544FE#32
  | 81 => 0xBEE1904E#32
  | 82 => 0xBED795F7#32
  | 83 => 0x3E0E8B6E#32
  | 84 => 0x3EC72B73#32
  | 85 => 0xBF2C6FC2#32
  | 86 => 0x3F852410#32
  | 87 => 0xBF0A788F#32
  | 88 => 0x3F47D4C4#32
  | 89 => 0x3FE9FB8F#32
  | 90 => 0xBFC064C5#32
  | 91 => 0x3F90938B#32
  | 92 => 0x3F345DF8#32
  | 93 => 0x3F8C1CE0#32
  | 94 => 0x3FF8AD56#32
  | 95 => 0xBF84C4AC#32
  | 96 => 0x3EF4C7D0#32
  | 97 => 0xBE161A63#32
  | 98 => 0x3ECBCC9C#32
  | 99 => 0xBFB1141C#32
  | 100 => 0xBFB0487A#32
  | 101 => 0xBC93FBC1#32
  | 102 => 0x3F8914A1#32
  | 103 => 0x3FC1C6AC#32
  | 104 => 0x4096F402#32
  | 105 => 0xBF17EAD8#32
  | 106 => 0xBF3461B0#32
  | 107 => 0x400A2E5D#32
  | 108 => 0x3F777274#32
  | 109 => 0x3FFB146E#32
  | 110 => 0x407E9FC1#32
  | 111 => 0xBF61B4A4#32
  | 112 => 0x3FE4ADC2#32
  | 113 => 0xBEA462A9#32
  | 114 => 0xBD883318#32
  | 115 => 0xBF52E5B0#32
  | 116 => 0x3FCBBB27#32
  | 117 => 0xBED063FA#32
  | 118 => 0xBDE3F5E1#32
  | 119 => 0x3F514847#32
  | 120 => 0x3FF3035E#32
  | 121 => 0x406F02E1#32
  | 122 => 0xBF365FEC#32
  | 123 => 0x401DF0BC#32
  | 124 => 0x403276E8#32
  | 125 => 0x3F13A862#32
  | 126 => 0x3F909C47#32
  | 127 => 0x3F4317D5#32
  | _ => 0#32

noncomputable abbrev lit0t0_272 (i : Nat) : BitVec 32 := match i % 128 with
  | 0 => 0xBF2F4BB6#32
  | 1 => 0xBEE68480#32
  | 2 => 0xBC854D19#32
  | 3 => 0xC002FB86#32
  | 4 => 0x3C02A176#32
  | 5 => 0xBEA17A0C#32
  | 6 => 0xBE998D5F#32
  | 7 => 0xBF9BF264#32
  | 8 => 0x3FC37A22#32
  | 9 => 0x40063CA7#32
  | 10 => 0x3DB300DB#32
  | 11 => 0x401763DF#32
  | 12 => 0x3FDB1044#32
  | 13 => 0xBECABDED#32
  | 14 => 0xBF3D6433#32
  | 15 => 0xBF1BCEDC#32
  | 16 => 0xBF9311F7#32
  | 17 => 0x3DD111AB#32
  | 18 => 0x3F93D54C#32
  | 19 => 0x3ED44CA0#32
  | 20 => 0xBF076AC7#32
  | 21 => 0x3E6BBF2D#32
  | 22 => 0x3F464A09#32
  | 23 => 0x3FB8F034#32
  | 24 => 0x3F13679E#32
  | 25 => 0x3EEF23EE#32
  | 26 => 0xBE95D2A0#32
  | 27 => 0xBE7A4388#32
  | 28 => 0x3F27DE26#32
  | 29 => 0xBFA570ED#32
  | 30 => 0x3F95D200#32
  | 31 => 0xBF4AEDD4#32
  | 32 => 0x407754AF#32
  | 33 => 0x3EFA3EB4#32
  | 34 => 0x3F829688#32
  | 35 => 0x3E35AB77#32
  | 36 => 0x3F61D6C6#32
  | 37 => 0x3F97EB2E#32
  | 38 => 0x3F9F133C#32
  | 39 => 0x3E2CECA2#32
  | 40 => 0xBEB8DCE8#32
  | 41 => 0x3FCE63F4#32
  | 42 => 0x3F83E520#32
  | 43 => 0xBFAAEEDD#32
  | 44 => 0x3EDFE3FD#32
  | 45 => 0xBEF1B79A#32
  | 46 => 0x3FB23F54#32
  | 47 => 0xBF84A53A#32
  | 48 => 0x4085779D#32
  | 49 => 0xBEF03546#32
  | 50 => 0x405A8EC1#32
  | 51 => 0x3D3A474C#32
  | 52 => 0xBF85C523#32
  | 53 => 0xBC17A8C1#32
  | 54 => 0xBE779BE9#32
  | 55 => 0xBDCEC459#32
  | 56 => 0x3F4D58EB#32
  | 57 => 0x3F53936C#32
  | 58 => 0xBF64BB7B#32
  | 59 => 0xBF2D17E7#32
  | 60 => 0x4052D671#32
  | 61 => 0xBD8FEF4D#32
  | 62 => 0xBF9B041C#32
  | 63 => 0x3EAFE1D8#32
  | 64 => 0x401634FC#32
  | 65 => 0x4017D3A4#32
  | 66 => 0x3EBF7678#32
  | 67 => 0x3FC2D28B#32
  | 68 => 0xBF1AFC2B#32
  | 69 => 0x3F5B46E2#32
  | 70 => 0x3FF26721#32
  | 71 => 0xBE2BEFA9#32
  | 72 => 0x3F46F020#32
  | 73 => 0xBF212DB3#32
  | 74 => 0xBE47C1D7#32
  | 75 => 0xBF01B916#32
  | 76 => 0x4029ED6C#32
  | 77 => 0xB9C7D640#32
  | 78 => 0x401AFBE4#32
  | 79 => 0xBDF26B25#32
  | 80 => 0x3F010B54#32
  | 81 => 0x3F67C5A5#32
  | 82 => 0x3EBB2CB1#32
  | 83 => 0xBF3DC454#32
  | 84 => 0x3F3D12DA#32
  | 85 => 0x3FB5C274#32
  | 86 => 0xBF8E3FD9#32
  | 87 => 0x3F623DE6#32
  | 88 => 0xBF03418B#32
  | 89 => 0x4009267B#32
  | 90 => 0xBF0F7334#32
  | 91 => 0x3E5A354F#32
  | 92 => 0xBE24F7B0#32
  | 93 => 0xBFAE11F8#32
  | 94 => 0x3F550C0C#32
  | 95 => 0x4026EFD3#32
  | 96 => 0xBF64568A#32
  | 97 => 0x3F2EE969#32
  | 98 => 0x3F30DAF1#32
  | 99 => 0x4045570D#32
  | 100 => 0x3F9F46E0#32
  | 101 => 0x4008D43A#32
  | 102 => 0x3F4855E8#32
  | 103 => 0x3E961C74#32
  | 104 => 0x3F375882#32
  | 105 => 0x403BEFB4#32
  | 106 => 0x3FB31BB4#32
  | 107 => 0x3F476478#32
  | 108 => 0xBF4AE732#32
  | 109 => 0x4028257E#32
  | 110 => 0x40079F99#32
  | 111 => 0xBF09A7AC#32
  | 112 => 0xBE8300C7#32
  | 113 => 0xBF0CD456#32
  | 114 => 0x4029BDAB#32
  | 115 => 0x3FA80AA7#32
  | 116 => 0x3F06C9CE#32
  | 117 => 0xBF3AEDD7#32
  | 118 => 0x3FC6936E#32
  | 119 => 0x3FC27964#32
  | 120 => 0x3E5E8A58#32
  | 121 => 0xBFE066DC#32
  | 122 => 0x3F62AD13#32
  | 123 => 0x3F580280#32
  | 124 => 0x3FB26AFD#32
  | 125 => 0x3FAAB9F3#32
  | 126 => 0x3FFB76AB#32
  | 127 => 0xBFA7D9D9#32
  | _ => 0#32

noncomputable abbrev lit0t0_273 (i : Nat) : BitVec 32 := match i % 128 with
  | 0 => 0x3B2137B9#32
  | 1 => 0x3E0DB8B3#32
  | 2 => 0x3F2F7F7B#32
  | 3 => 0x4013DCC8#32
  | 4 => 0x3FF3B9C4#32
  | 5 => 0xBF253328#32
  | 6 => 0x3E5EF7F1#32
  | 7 => 0x3FF51830#32
  | 8 => 0xBF417E00#32
  | 9 => 0x3F4441EE#32
  | 10 => 0x3FD8A54C#32
  | 11 => 0x3F8AE944#32
  | 12 => 0x4099F7EA#32
  | 13 => 0x3FAED809#32
  | 14 => 0x3DD1B045#32
  | 15 => 0xBF674E00#32
  | 16 => 0x3D843289#32
  | 17 => 0x40913DC8#32
  | 18 => 0xBE99D31C#32
  | 19 => 0x3F26C235#32
  | 20 => 0xBF3D5BA0#32
  | 21 => 0xBF6F68DC#32
  | 22 => 0x3F5E6321#32
  | 23 => 0x3EABF5ED#32
  | 24 => 0x3FE8D72D#32
  | 25 => 0x3F40A658#32
  | 26 => 0x3F5298DE#32
  | 27 => 0x3F8745D2#32
  | 28 => 0x3EB33353#32
  | 29 => 0xBE7751D1#32
  | 30 => 0x405373B9#32
  | 31 => 0x3F6BBDE8#32
  | 32 => 0x3F50DF0C#32
  | 33 => 0x3F7CDF52#32
  | 34 => 0xBF248E76#32
  | 35 => 0x3FCE5301#32
  | 36 => 0xBE2FBB08#32
  | 37 => 0xBE998944#32
  | 38 => 0x3FB4D766#32
  | 39 => 0x3E34B1CA#32
  | 40 => 0xBF8A4C2E#32
  | 41 => 0xBE867FAC#32
  | 42 => 0x3F63F82B#32
  | 43 => 0x3E5C95D6#32
  | 44 => 0xBF467E01#32
  | 45 => 0xBE81150F#32
  | 46 => 0x40471AE0#32
  | 47 => 0xBF339781#32
  | 48 => 0xBF6403D2#32
  | 49 => 0xBF60EB51#32
  | 50 => 0xBFA3897E#32
  | 51 => 0x3F0D4317#32
  | 52 => 0x3F50820E#32
  | 53 => 0xBF2BACAA#32
  | 54 => 0xBF762D18#32
  | 55 => 0x3FFBFD2D#32
  | 56 => 0xBE5B4B5C#32
  | 57 => 0xBF0F3CA6#32
  | 58 => 0xBF248E92#32
  | 59 => 0xBFAE4596#32
  | 60 => 0xBEB134EF#32
  | 61 => 0x3F021E6A#32
  | 62 => 0xBEFD7987#32
  | 63 => 0x405D243B#32
  | 64 => 0x3E0BE400#32
  | 65 => 0x3E1D7EFF#32
  | 66 => 0x3F66E2E0#32
  | 67 => 0x3F342948#32
  | 68 => 0x3F6176A5#32
  | 69 => 0xBF7EEEB6#32
  | 70 => 0x3C65171D#32
  | 71 => 0x3F732B11#32
  | 72 => 0x3EC10979#32
  | 73 => 0xBF439FDB#32
  | 74 => 0x40004DA5#32
  | 75 => 0x3E53A06D#32
  | 76 => 0x3F9CE030#32
  | 77 => 0x3ED46435#32
  | 78 => 0x402223D8#32
  | 79 => 0x3F2FFEDC#32
  | 80 => 0xBF524C39#32
  | 81 => 0xBD85BC8C#32
  | 82 => 0xBF3892E5#32
  | 83 => 0xBDA36DE0#32
  | 84 => 0xBEE5F7BC#32
  | 85 => 0x3FA5AB0B#32
  | 86 => 0x3F622C95#32
  | 87 => 0xBCE83440#32
  | 88 => 0x3FA1E18D#32
  | 89 => 0x3E5D3418#32
  | 90 => 0xBFB5913B#32
  | 91 => 0x3FA39493#32
  | 92 => 0xBF30FF05#32
  | 93 => 0x3FFFF712#32
  | 94 => 0xBF7EAE96#32
  | 95 => 0x3EE4C1DA#32
  | 96 => 0xBEE409C8#32
  | 97 => 0xBF2F7F5E#32
  | 98 => 0xBED44621#32
  | 99 => 0x3FA19FF5#32
  | 100 => 0xBF58D9B2#32
  | 101 => 0x3FE7ED87#32
  | 102 => 0x40769B20#32
  | 103 => 0x3FB6B20B#32
  | 104 => 0xBE819082#32
  | 105 => 0x3E2F115D#32
  | 106 => 0x3FFBE551#32
  | 107 => 0x3FF01FE0#32
  | 108 => 0x40115A7C#32
  | 109 => 0xBF190781#32
  | 110 => 0x3F1A675D#32
  | 111 => 0xBF7BC573#32
  | 112 => 0x3D879A0A#32
  | 113 => 0x400BBD33#32
  | 114 => 0x3F8A9D8F#32
  | 115 => 0xBEECCC80#32
  | 116 => 0xBF61BD2F#32
  | 117 => 0x3FF4CC65#32
  | 118 => 0x3F3AAB84#32
  | 119 => 0x3F3CA809#32
  | 120 => 0xBD02DD93#32
  | 121 => 0x3F94C458#32
  | 122 => 0x4017C3A6#32
  | 123 => 0x3F5AB88C#32
  | 124 => 0xBDCF7441#32
  | 125 => 0xBE781761#32
  | 126 => 0x3E4790E9#32
  | 127 => 0x3F1DE8AB#32
  | _ => 0#32

noncomputable abbrev lit0t0_274 (i : Nat) : BitVec 32 := match i % 128 with
  | 0 => 0x3F867F6A#32
  | 1 => 0xBF2BBAE5#32
  | 2 => 0x3F491B67#32
  | 3 => 0x3EEE5402#32
  | 4 => 0xC0010392#32
  | 5 => 0x3F3ABC9F#32
  | 6 => 0x3E03447C#32
  | 7 => 0xBF82CDE5#32
  | 8 => 0xBF26C3B4#32
  | 9 => 0x3E80DD2B#32
  | 10 => 0xBF246C3D#32
  | 11 => 0x402D87EB#32
  | 12 => 0x3FC31C57#32
  | 13 => 0x3FECC5CA#32
  | 14 => 0x3F624FB5#32
  | 15 => 0x3EAE9325#32
  | 16 => 0x407915BC#32
  | 17 => 0x3FAF9A12#32
  | 18 => 0xBDF66473#32
  | 19 => 0x3DF6E6EF#32
  | 20 => 0x406AB807#32
  | 21 => 0xBD57FB86#32
  | 22 => 0xBFB0B85B#32
  | 23 => 0x3E770831#32
  | 24 => 0x3F5D0A3A#32
  | 25 => 0x3E5625D2#32
  | 26 => 0x3F0943F7#32
  | 27 => 0x3FED120E#32
  | 28 => 0xBE99534B#32
  | 29 => 0x3F88E8EC#32
  | 30 => 0xBE35C696#32
  | 31 => 0xBEF96B0C#32
  | 32 => 0x4006FD01#32
  | 33 => 0x3F914646#32
  | 34 => 0xBD46668F#32
  | 35 => 0x3E41804F#32
  | 36 => 0x3F2BD0F8#32
  | 37 => 0x3D9303DF#32
  | 38 => 0xBEC6290B#32
  | 39 => 0x3FD50081#32
  | 40 => 0x3FBAC0F0#32
  | 41 => 0x3D401768#32
  | 42 => 0xBE0EB327#32
  | 43 => 0x3F0F3039#32
  | 44 => 0xBF3D0D56#32
  | 45 => 0x3F71EF66#32
  | 46 => 0x3FA8C607#32
  | 47 => 0x3F1B44D9#32
  | 48 => 0x3F0CB8D2#32
  | 49 => 0xBD79E772#32
  | 50 => 0xBE8ED3CF#32
  | 51 => 0x3FADEEC0#32
  | 52 => 0xBF402BDE#32
  | 53 => 0xBED264DD#32
  | 54 => 0xBF3B8E13#32
  | 55 => 0x3F30F84D#32
  | 56 => 0x3F28A421#32
  | 57 => 0xBFA74072#32
  | 58 => 0x3F55FD09#32
  | 59 => 0x3F5FEC3E#32
  | 60 => 0x4009E3E7#32
  | 61 => 0xBF5D028C#32
  | 62 => 0x3E9FF04F#32
  | 63 => 0x3FDEFD2E#32
  | 64 => 0x40ADE9BA#32
  | 65 => 0x40829E58#32
  | 66 => 0xBE48CB3C#32
  | 67 => 0xBFDC29D0#32
  | 68 => 0xBE8A59EB#32
  | 69 => 0x3F2D63F8#32
  | 70 => 0x3F42DD6F#32
  | 71 => 0x3FA55A9F#32
  | 72 => 0xBE7C1D7D#32
  | 73 => 0x3DA8C0AA#32
  | 74 => 0x3EE91CBF#32
  | 75 => 0x401D6F9F#32
  | 76 => 0xBF8033E5#32
  | 77 => 0x3EC2444F#32
  | 78 => 0x403FE280#32
  | 79 => 0x3FE423D4#32
  | 80 => 0xBE4934C7#32
  | 81 => 0x3EDB21B6#32
  | 82 => 0x3F6EFFE7#32
  | 83 => 0x3E1A7270#32
  | 84 => 0xBE497F41#32
  | 85 => 0x407EDBD6#32
  | 86 => 0xBF447CB8#32
  | 87 => 0x3F354482#32
  | 88 => 0xBF594075#32
  | 89 => 0xBE6271EB#32
  | 90 => 0x3F428836#32
  | 91 => 0x3F6298AD#32
  | 92 => 0x3EDA5F2C#32
  | 93 => 0x3F34FC9C#32
  | 94 => 0xBF421892#32
  | 95 => 0x3EA0A8DB#32
  | 96 => 0x3E48730C#32
  | 97 => 0x40155B48#32
  | 98 => 0x408FAD82#32
  | 99 => 0x3FAE9AE0#32
  | 100 => 0xBF9797F7#32
  | 101 => 0x3F081A0E#32
  | 102 => 0xBEAA60C8#32
  | 103 => 0x4078C5B9#32
  | 104 => 0x3F75E183#32
  | 105 => 0x3FB0C159#32
  | 106 => 0xBF08E86E#32
  | 107 => 0xBEC37C85#32
  | 108 => 0xBDA55050#32
  | 109 => 0xBF1BAA62#32
  | 110 => 0x3C93A77E#32
  | 111 => 0x3EECACA6#32
  | 112 => 0x3F963F5B#32
  | 113 => 0x3F875BA3#32
  | 114 => 0x401BB1DA#32
  | 115 => 0xBEED9B46#32
  | 116 => 0x3F7E0F99#32
  | 117 => 0x3E3FCA91#32
  | 118 => 0xBDBC1E67#32
  | 119 => 0xBFB9B09B#32
  | 120 => 0x3EE9E33F#32
  | 121 => 0xBF738C76#32
  | 122 => 0xBF0159B3#32
  | 123 => 0x3DC80DED#32
  | 124 => 0x3F778F1F#32
  | 125 => 0x3D83C07C#32
  | 126 => 0x3E344888#32
  | 127 => 0xBE37B1F0#32
  | _ => 0#32

noncomputable abbrev lit0t0_275 (i : Nat) : BitVec 32 := match i % 128 with
  | 0 => 0x3F8FE6DD#32
  | 1 => 0xBFB97CE1#32
  | 2 => 0x3F6AB4E2#32
  | 3 => 0x3CD561AC#32
  | 4 => 0xBD121939#32
  | 5 => 0x3E39AC0B#32
  | 6 => 0x3EF4907A#32
  | 7 => 0xBED789A3#32
  | 8 => 0x3E13EF52#32
  | 9 => 0x3EF2508A#32
  | 10 => 0xBF2EDEE2#32
  | 11 => 0x408E3EFE#32
  | 12 => 0x3F76AF4E#32
  | 13 => 0x3F0A1542#32
  | 14 => 0xBF428E50#32
  | 15 => 0x3F0627E2#32
  | 16 => 0xBF853381#32
  | 17 => 0x401863A9#32
  | 18 => 0x3EF9A656#32
  | 19 => 0x3FEA6B40#32
  | 20 => 0xBD5345F1#32
  | 21 => 0xBEEEFE34#32
  | 22 => 0x3E69F5D6#32
  | 23 => 0x40333194#32
  | 24 => 0xBF6CC974#32
  | 25 => 0x3EA3B744#32
  | 26 => 0xBE5997AD#32
  | 27 => 0x3FA8CACC#32
  | 28 => 0x3DEDCFEC#32
  | 29 => 0x401EE6F7#32
  | 30 => 0xBE764CA8#32
  | 31 => 0x40762CFA#32
  | 32 => 0x400D9AD8#32
  | 33 => 0xBEADE6FA#32
  | 34 => 0xBF539868#32
  | 35 => 0x3F2EB26E#32
  | 36 => 0xBF324001#32
  | 37 => 0x3F2BF9D9#32
  | 38 => 0x3FBC7DBE#32
  | 39 => 0x3E365856#32
  | 40 => 0x3DB7652F#32
  | 41 => 0x3FC26738#32
  | 42 => 0x4056CE35#32
  | 43 => 0x3F562EBA#32
  | 44 => 0x3E8AC4B0#32
  | 45 => 0x401DB4B9#32
  | 46 => 0x403C22FC#32
  | 47 => 0x3D28694D#32
  | 48 => 0x3CEA093C#32
  | 49 => 0x3F6803D8#32
  | 50 => 0xBFBD3B7D#32
  | 51 => 0x3F62D26A#32
  | 52 => 0x3EB520D9#32
  | 53 => 0xBE54CA4E#32
  | 54 => 0x3E352C79#32
  | 55 => 0x401C2010#32
  | 56 => 0x3ED6E2EB#32
  | 57 => 0x3F25C084#32
  | 58 => 0xBF7B86D2#32
  | 59 => 0x3FD24B06#32
  | 60 => 0xBFA849E9#32
  | 61 => 0xBF66C690#32
  | 62 => 0x3E328CD9#32
  | 63 => 0xBF3F2CBC#32
  | 64 => 0xBFDB8649#32
  | 65 => 0x3FFF0FA6#32
  | 66 => 0x3E14EDA4#32
  | 67 => 0x3F63B11D#32
  | 68 => 0xBF2D72F7#32
  | 69 => 0x3F97369F#32
  | 70 => 0xBFB02BC4#32
  | 71 => 0x3D5E954F#32
  | 72 => 0x40853B63#32
  | 73 => 0x3E163166#32
  | 74 => 0xBEE1A225#32
  | 75 => 0x3F8F8014#32
  | 76 => 0xBE0DB9B2#32
  | 77 => 0x3DF7437C#32
  | 78 => 0x3FE47AFC#32
  | 79 => 0x3F50D3F9#32
  | 80 => 0x3EA48084#32
  | 81 => 0x3F332C9A#32
  | 82 => 0x3D2EF5E0#32
  | 83 => 0xBECA56CC#32
  | 84 => 0x3E7FDEA3#32
  | 85 => 0xBF2B0A25#32
  | 86 => 0x3FDF3E70#32
  | 87 => 0x3F091B0C#32
  | 88 => 0x3EDCFAD0#32
  | 89 => 0x3F58E7C2#32
  | 90 => 0x3F1ABB3D#32
  | 91 => 0x3EB37427#32
  | 92 => 0x3F19F38A#32
  | 93 => 0x403EEFAE#32
  | 94 => 0x3ECAB4D5#32
  | 95 => 0x3E1544E7#32
  | 96 => 0xBF398094#32
  | 97 => 0xBEC457E2#32
  | 98 => 0xBF47D633#32
  | 99 => 0xBF81A64A#32
  | 100 => 0x3F11AF83#32
  | 101 => 0xBE04C9AC#32
  | 102 => 0x3F799912#32
  | 103 => 0x3F4E4056#32
  | 104 => 0x400F3210#32
  | 105 => 0x3FCDF627#32
  | 106 => 0x3EC28A91#32
  | 107 => 0x3C604F8D#32
  | 108 => 0xBF187664#32
  | 109 => 0x3F19F505#32
  | 110 => 0xBF6DCC0C#32
  | 111 => 0x3F9A92DC#32
  | 112 => 0x3F0688A9#32
  | 113 => 0x3F333BB8#32
  | 114 => 0xBE509B53#32
  | 115 => 0xBEBF3D88#32
  | 116 => 0x3ED02EE4#32
  | 117 => 0xBF5434DD#32
  | 118 => 0xBF7AC5EF#32
  | 119 => 0x3E1A7CD5#32
  | 120 => 0xBED1EFF4#32
  | 121 => 0x3FA99DF2#32
  | 122 => 0x3F7DA696#32
  | 123 => 0x3FE10FF0#32
  | 124 => 0xBF83AD96#32
  | 125 => 0x3FFD3613#32
  | 126 => 0x3EB30399#32
  | 127 => 0x40C02768#32
  | _ => 0#32

noncomputable abbrev lit0t0_276 (i : Nat) : BitVec 32 := match i % 128 with
  | 0 => 0x3F44A0EA#32
  | 1 => 0x3F5A7FB1#32
  | 2 => 0x4011F087#32
  | 3 => 0xBF3638D2#32
  | 4 => 0x3E0855B9#32
  | 5 => 0x3FC957A7#32
  | 6 => 0xBF2C99CA#32
  | 7 => 0x4043C367#32
  | 8 => 0x3FB27D13#32
  | 9 => 0xBF9B00C6#32
  | 10 => 0x3EEF9D4E#32
  | 11 => 0x3EFAF3D0#32
  | 12 => 0xBEA68297#32
  | 13 => 0xBF092B64#32
  | 14 => 0x3E45074B#32
  | 15 => 0xBEFC31EA#32
  | 16 => 0x4008F531#32
  | 17 => 0x3F4943CD#32
  | 18 => 0x3F10A0F9#32
  | 19 => 0xBF5EE6E8#32
  | 20 => 0x3F250EC6#32
  | 21 => 0x3E99A738#32
  | 22 => 0xBE9E68E4#32
  | 23 => 0xBF08BD3F#32
  | 24 => 0x407E1EF0#32
  | 25 => 0x3CCD5AB1#32
  | 26 => 0x3F963E5C#32
  | 27 => 0x3F8D55D7#32
  | 28 => 0xBFC10E7E#32
  | 29 => 0xBD997492#32
  | 30 => 0x3E56AE36#32
  | 31 => 0x3F1AFA34#32
  | 32 => 0x3F5CCEAE#32
  | 33 => 0x3FB624F5#32
  | 34 => 0x3F274DDA#32
  | 35 => 0x401BEB74#32
  | 36 => 0x4093211E#32
  | 37 => 0x3F7C9BF0#32
  | 38 => 0x3EA2590F#32
  | 39 => 0xBF89BE3E#32
  | 40 => 0x3EAEB7CB#32
  | 41 => 0x3D99C344#32
  | 42 => 0x3F6D1928#32
  | 43 => 0x408FF0EE#32
  | 44 => 0xBECBC7FD#32
  | 45 => 0x3FAD9DEF#32
  | 46 => 0x3F1ADCC2#32
  | 47 => 0x3F9E8FEF#32
  | 48 => 0x3F042B8D#32
  | 49 => 0x3F4646EA#32
  | 50 => 0x3F4A4B73#32
  | 51 => 0x40028002#32
  | 52 => 0x3FBFFD0A#32
  | 53 => 0xBEFEF6D4#32
  | 54 => 0xBF309241#32
  | 55 => 0x3F87490D#32
  | 56 => 0xBE49E356#32
  | 57 => 0x3FA0A312#32
  | 58 => 0xBF144DA3#32
  | 59 => 0xBD8484AF#32
  | 60 => 0x3D372E22#32
  | 61 => 0x402CB3E5#32
  | 62 => 0xBE969B79#32
  | 63 => 0x3F8B586E#32
  | 64 => 0xBF8A5A9F#32
  | 65 => 0xBDCA7037#32
  | 66 => 0x3F8F6E54#32
  | 67 => 0xBF5A1EB8#32
  | 68 => 0x3E6D531E#32
  | 69 => 0x3E8204AF#32
  | 70 => 0x3E479A98#32
  | 71 => 0xBF2C8044#32
  | 72 => 0x3F447C42#32
  | 73 => 0x3F251DE4#32
  | 74 => 0xBF8505EC#32
  | 75 => 0xBF3A8C23#32
  | 76 => 0xBEC0089B#32
  | 77 => 0x3EF2410E#32
  | 78 => 0x3E9C4C07#32
  | 79 => 0x3F685DD8#32
  | 80 => 0x3E843685#32
  | 81 => 0xBF2CCB2A#32
  | 82 => 0x40190E87#32
  | 83 => 0x3FD4F0F3#32
  | 84 => 0xBF1E245D#32
  | 85 => 0xBF579902#32
  | 86 => 0xBF7B07B6#32
  | 87 => 0x3FD970BC#32
  | 88 => 0x3F5EE6D4#32
  | 89 => 0x3F71CF79#32
  | 90 => 0x3F294713#32
  | 91 => 0xBF1B66C3#32
  | 92 => 0xBF9978E9#32
  | 93 => 0x3EBBD0B4#32
  | 94 => 0xBD93F78D#32
  | 95 => 0x3F784100#32
  | 96 => 0x3F392A52#32
  | 97 => 0x3EF2FD82#32
  | 98 => 0xBFD78337#32
  | 99 => 0x3FE4C5C8#32
  | 100 => 0xBF2C735B#32
  | 101 => 0x3E2E9D03#32
  | 102 => 0xBE8364C1#32
  | 103 => 0x3ECE8035#32
  | 104 => 0x3F09509E#32
  | 105 => 0x3F96BC82#32
  | 106 => 0x3F732545#32
  | 107 => 0x3FB049AD#32
  | 108 => 0x3F8B4533#32
  | 109 => 0x3EB94536#32
  | 110 => 0xBF3D3CDF#32
  | 111 => 0xBF5017DE#32
  | 112 => 0x3FC5D85E#32
  | 113 => 0xBF3FC260#32
  | 114 => 0xBF148A83#32
  | 115 => 0x40273D3D#32
  | 116 => 0x3EEBE05C#32
  | 117 => 0xBE115E05#32
  | 118 => 0x3F930A9E#32
  | 119 => 0x3D2176CB#32
  | 120 => 0x3FDE6B8C#32
  | 121 => 0x3EE73799#32
  | 122 => 0xBFA3F796#32
  | 123 => 0x3E108E58#32
  | 124 => 0xBF0302C6#32
  | 125 => 0x3F495D25#32
  | 126 => 0x3FA2313C#32
  | 127 => 0xBEA094E5#32
  | _ => 0#32

noncomputable abbrev lit0t0_277 (i : Nat) : BitVec 32 := match i % 128 with
  | 0 => 0x3EB6BDF3#32
  | 1 => 0x3FE886EC#32
  | 2 => 0x3E11F711#32
  | 3 => 0xBFA20B14#32
  | 4 => 0xBF118B54#32
  | 5 => 0x3F09C392#32
  | 6 => 0xBE43A8D2#32
  | 7 => 0xBF233B16#32
  | 8 => 0x4003EE34#32
  | 9 => 0x3FB49011#32
  | 10 => 0x3F5C2A72#32
  | 11 => 0x3DE63BCC#32
  | 12 => 0x3FA72651#32
  | 13 => 0x4033DD7A#32
  | 14 => 0x3FAD0B99#32
  | 15 => 0x3EFDBE92#32
  | 16 => 0x3FE6E3AF#32
  | 17 => 0x3F708B8C#32
  | 18 => 0x3F0F8E45#32
  | 19 => 0x3FF5FCC6#32
  | 20 => 0xBF14EF65#32
  | 21 => 0x402E3E18#32
  | 22 => 0xBF6F61B0#32
  | 23 => 0x3F9BDB3C#32
  | 24 => 0x3F48B3AF#32
  | 25 => 0x3FB8CFEB#32
  | 26 => 0xBF7E3036#32
  | 27 => 0xBC969B28#32
  | 28 => 0xBEF6C083#32
  | 29 => 0x3E9B0B78#32
  | 30 => 0x405D0DF7#32
  | 31 => 0x3F8FE619#32
  | 32 => 0x3E92726F#32
  | 33 => 0xBEA1A0E0#32
  | 34 => 0x3EBE5AE0#32
  | 35 => 0xBE0756C8#32
  | 36 => 0x406EACC0#32
  | 37 => 0x3FE7F562#32
  | 38 => 0x3F1D5B95#32
  | 39 => 0x3EB8518B#32
  | 40 => 0xBF9673CA#32
  | 41 => 0x3FDB5EC5#32
  | 42 => 0xBF852A06#32
  | 43 => 0x40267C0F#32
  | 44 => 0xBEC44411#32
  | 45 => 0xBDC90761#32
  | 46 => 0xBF8148E1#32
  | 47 => 0xBF0ABEA7#32
  | 48 => 0xBF286340#32
  | 49 => 0x3FFF86E7#32
  | 50 => 0x3F44C05C#32
  | 51 => 0xBF161BCF#32
  | 52 => 0x3FB2A446#32
  | 53 => 0x3FB5E0C2#32
  | 54 => 0x3F064AEE#32
  | 55 => 0x3DF764D8#32
  | 56 => 0x40524282#32
  | 57 => 0x40626FA1#32
  | 58 => 0x40099493#32
  | 59 => 0x3DA89120#32
  | 60 => 0x3FB349EB#32
  | 61 => 0x4012E8A6#32
  | 62 => 0xBE2BEFA9#32
  | 63 => 0x3FB823B5#32
  | 64 => 0x4008D258#32
  | 65 => 0x3FEF5E54#32
  | 66 => 0x4011AEA8#32
  | 67 => 0x3FA76D2B#32
  | 68 => 0x403FDFF3#32
  | 69 => 0x3FA89C88#32
  | 70 => 0x3FFEAEFF#32
  | 71 => 0x404CA483#32
  | 72 => 0x3FA99E4A#32
  | 73 => 0xBE89D8FA#32
  | 74 => 0xBFC03C37#32
  | 75 => 0xBFB4680B#32
  | 76 => 0xBF591357#32
  | 77 => 0x3FBFC904#32
  | 78 => 0x3F3FEE56#32
  | 79 => 0xBE0D7BD5#32
  | 80 => 0xBF39ED88#32
  | 81 => 0xBEB7EC41#32
  | 82 => 0x3F371098#32
  | 83 => 0x408EBE44#32
  | 84 => 0x3FE13976#32
  | 85 => 0x40088F18#32
  | 86 => 0xBF6B62C6#32
  | 87 => 0x3E2BF7CB#32
  | 88 => 0xBF216D6A#32
  | 89 => 0x400AF265#32
  | 90 => 0xBF6D6279#32
  | 91 => 0x3F8E73CC#32
  | 92 => 0x3FAB3F35#32
  | 93 => 0x40073DE8#32
  | 94 => 0xBFE77D96#32
  | 95 => 0xBE470C83#32
  | 96 => 0xBEAEBE7C#32
  | 97 => 0xBDBE9783#32
  | 98 => 0xBF7616B5#32
  | 99 => 0xBF13F357#32
  | 100 => 0xBEC33383#32
  | 101 => 0x3FFC2291#32
  | 102 => 0x3DAE5282#32
  | 103 => 0x4005760E#32
  | 104 => 0x3ED91E40#32
  | 105 => 0x3E7DBB90#32
  | 106 => 0x3F2E2A96#32
  | 107 => 0x3FDC9DBE#32
  | 108 => 0xBED249E5#32
  | 109 => 0xBF37C5E9#32
  | 110 => 0x40587308#32
  | 111 => 0xBF403EEA#32
  | 112 => 0x3EF52998#32
  | 113 => 0x3F1A33F0#32
  | 114 => 0x3F0943B9#32
  | 115 => 0x3D34E5CC#32
  | 116 => 0x3EE81294#32
  | 117 => 0x3EC0E561#32
  | 118 => 0xBDA9CA3E#32
  | 119 => 0xBF807BDA#32
  | 120 => 0xBE5D4BDF#32
  | 121 => 0x3F94F9DE#32
  | 122 => 0x402FA6C4#32
  | 123 => 0x3E48DB70#32
  | 124 => 0xBD969594#32
  | 125 => 0x40A6D71D#32
  | 126 => 0x3FA8824E#32
  | 127 => 0x3FC54527#32
  | _ => 0#32

noncomputable abbrev lit0t0_278 (i : Nat) : BitVec 32 := match i % 128 with
  | 0 => 0x3E87BEC5#32
  | 1 => 0x3FE12478#32
  | 2 => 0xBF4E5FC5#32
  | 3 => 0xBF687FFC#32
  | 4 => 0xBF2D54CA#32
  | 5 => 0x3D993046#32
  | 6 => 0x3F6700EC#32
  | 7 => 0x3FB4F7C5#32
  | 8 => 0x3F989CD2#32
  | 9 => 0xBF9915BC#32
  | 10 => 0xBE3FE751#32
  | 11 => 0x3EEE04C0#32
  | 12 => 0x3EF9E744#32
  | 13 => 0x3F5E3C28#32
  | 14 => 0xBDE42826#32
  | 15 => 0x3F834752#32
  | 16 => 0x3EBE826F#32
  | 17 => 0x40024754#32
  | 18 => 0xBE898F95#32
  | 19 => 0xBEFCE70A#32
  | 20 => 0x3F1A8887#32
  | 21 => 0x3EEB3222#32
  | 22 => 0xBF29C755#32
  | 23 => 0xBF7B035E#32
  | 24 => 0x40740302#32
  | 25 => 0x3F103E6A#32
  | 26 => 0x3EBE9770#32
  | 27 => 0xBF6595B8#32
  | 28 => 0x3F26355C#32
  | 29 => 0xBF263D7F#32
  | 30 => 0xBE8D72F5#32
  | 31 => 0x400AF9FA#32
  | 32 => 0xBF19F3D5#32
  | 33 => 0x3F078DC2#32
  | 34 => 0x3F9CBB3F#32
  | 35 => 0xBED37934#32
  | 36 => 0xBEA650B7#32
  | 37 => 0x3FA98010#32
  | 38 => 0x3F7486FE#32
  | 39 => 0x3FFD75A0#32
  | 40 => 0x3DA51847#32
  | 41 => 0x40188345#32
  | 42 => 0x3FBC2490#32
  | 43 => 0x3F162249#32
  | 44 => 0x3F49E666#32
  | 45 => 0xBF1D630E#32
  | 46 => 0x406A171D#32
  | 47 => 0x3F90E756#32
  | 48 => 0x3F20A128#32
  | 49 => 0x3F840ED0#32
  | 50 => 0xBF6470AA#32
  | 51 => 0x3FE642D6#32
  | 52 => 0x3F97C622#32
  | 53 => 0xBE0CE9A3#32
  | 54 => 0xBF5D33B8#32
  | 55 => 0xBFCB0386#32
  | 56 => 0x3F776347#32
  | 57 => 0xBFA20BBA#32
  | 58 => 0x3E6B74FE#32
  | 59 => 0x3FCA2D4D#32
  | 60 => 0xBE8D2327#32
  | 61 => 0x3F060290#32
  | 62 => 0x4011EC4C#32
  | 63 => 0x402636B0#32
  | 64 => 0x3F6EEB87#32
  | 65 => 0x3F5A585A#32
  | 66 => 0x3F924ED7#32
  | 67 => 0xBE44E75C#32
  | 68 => 0xBF359BCE#32
  | 69 => 0xBF302027#32
  | 70 => 0x3F1D179F#32
  | 71 => 0x3D8009F1#32
  | 72 => 0xBFD02264#32
  | 73 => 0x40922C5A#32
  | 74 => 0xBEC96EC8#32
  | 75 => 0x3D3E91F2#32
  | 76 => 0x400CB0A8#32
  | 77 => 0xBFEE7914#32
  | 78 => 0xBF0206F0#32
  | 79 => 0xBEDAF88C#32
  | 80 => 0x3F82E356#32
  | 81 => 0xBF22DD6D#32
  | 82 => 0x3ECAF90D#32
  | 83 => 0x3EADBDBA#32
  | 84 => 0x3E25D017#32
  | 85 => 0xBD355C0E#32
  | 86 => 0x3F3E6C8A#32
  | 87 => 0x3FF5330A#32
  | 88 => 0xBE8E8412#32
  | 89 => 0x3FFA4FF2#32
  | 90 => 0x3E5090FA#32
  | 91 => 0xBF40BA96#32
  | 92 => 0x3FA97BA4#32
  | 93 => 0x3F3C96CE#32
  | 94 => 0x40013173#32
  | 95 => 0x3EF31B14#32
  | 96 => 0x3F67E6CC#32
  | 97 => 0x3C883A1E#32
  | 98 => 0x401FD428#32
  | 99 => 0x40652321#32
  | 100 => 0x3D8C9170#32
  | 101 => 0x405D703D#32
  | 102 => 0x3EE62144#32
  | 103 => 0x3E069BF8#32
  | 104 => 0xBF909BF4#32
  | 105 => 0xBF6BC6BA#32
  | 106 => 0xBEE315F6#32
  | 107 => 0x3EF5BF50#32
  | 108 => 0x3EB6AC02#32
  | 109 => 0x3FD90D92#32
  | 110 => 0x400D0ADA#32
  | 111 => 0x3F8E183E#32
  | 112 => 0xBF4352B8#32
  | 113 => 0x3FBA0702#32
  | 114 => 0x3FBF0970#32
  | 115 => 0x3D6CBFAC#32
  | 116 => 0xBEFA3922#32
  | 117 => 0x3EE62A74#32
  | 118 => 0xBEA021D6#32
  | 119 => 0xC00A7DE9#32
  | 120 => 0x3F08842E#32
  | 121 => 0x3D8BDAC1#32
  | 122 => 0xBDB8ECCD#32
  | 123 => 0x3F602EC1#32
  | 124 => 0x3F83D7A1#32
  | 125 => 0xBF78C316#32
  | 126 => 0x3E9F1990#32
  | 127 => 0xBE7C851A#32
  | _ => 0#32

noncomputable abbrev lit0t0_279 (i : Nat) : BitVec 32 := match i % 128 with
  | 0 => 0x3F0CCD12#32
  | 1 => 0xBCF0D92E#32
  | 2 => 0x3F88C132#32
  | 3 => 0x403EBC02#32
  | 4 => 0x3FDE884F#32
  | 5 => 0xBF45690A#32
  | 6 => 0x40246C79#32
  | 7 => 0xBFBD5432#32
  | 8 => 0xBEECDA20#32
  | 9 => 0x409257A0#32
  | 10 => 0x4006D21C#32
  | 11 => 0xBDA86258#32
  | 12 => 0x3EE2B33A#32
  | 13 => 0x3F674102#32
  | 14 => 0xBF86FDAA#32
  | 15 => 0x3F22F4FC#32
  | 16 => 0x402D6545#32
  | 17 => 0xBF2C1464#32
  | 18 => 0xBEA47D90#32
  | 19 => 0x3FA1FA09#32
  | 20 => 0x3F7BEAAE#32
  | 21 => 0xBE7DB24D#32
  | 22 => 0x3F1CB50A#32
  | 23 => 0xBF378E28#32
  | 24 => 0x3F488D5C#32
  | 25 => 0xBD4CB8EE#32
  | 26 => 0x3F439258#32
  | 27 => 0x3EA5EDD5#32
  | 28 => 0x3E903A40#32
  | 29 => 0xBE12DCDC#32
  | 30 => 0x3FAAE054#32
  | 31 => 0xBF41DCBC#32
  | 32 => 0x3E9C6C8E#32
  | 33 => 0x3F242A40#32
  | 34 => 0xBDC57BA2#32
  | 35 => 0x3D98F296#32
  | 36 => 0xBEDBE8CD#32
  | 37 => 0x3FFA867F#32
  | 38 => 0xBE7AB22F#32
  | 39 => 0x3F288F17#32
  | 40 => 0x3E8165F8#32
  | 41 => 0x3F00E4CA#32
  | 42 => 0x3F2C1AF0#32
  | 43 => 0x40E0B2BA#32
  | 44 => 0xBD633857#32
  | 45 => 0x3FD0C960#32
  | 46 => 0xBF2A50FD#32
  | 47 => 0x3F95D364#32
  | 48 => 0xBEF99E7B#32
  | 49 => 0xBF41C3CE#32
  | 50 => 0x3FD86B2B#32
  | 51 => 0x3FEED289#32
  | 52 => 0x3DC73A21#32
  | 53 => 0xBED2AA10#32
  | 54 => 0xBE1DC09F#32
  | 55 => 0x3FE4BA3A#32
  | 56 => 0x4023474C#32
  | 57 => 0x401E6B7D#32
  | 58 => 0x3F8A3AD8#32
  | 59 => 0x3D5C16FC#32
  | 60 => 0x3F04A0D2#32
  | 61 => 0xBEF95E0C#32
  | 62 => 0xBF9EF865#32
  | 63 => 0xBF0FF0CF#32
  | 64 => 0xBE818177#32
  | 65 => 0xBE7E9319#32
  | 66 => 0x3F48429C#32
  | 67 => 0x3F9EE5EF#32
  | 68 => 0x3F185FE2#32
  | 69 => 0x401EDC6A#32
  | 70 => 0x3FCD115E#32
  | 71 => 0x3F59EB89#32
  | 72 => 0x3DAB167C#32
  | 73 => 0x3F294337#32
  | 74 => 0x3F0748BD#32
  | 75 => 0xBEAAD29A#32
  | 76 => 0x3FB37FC7#32
  | 77 => 0x3F5A0BE2#32
  | 78 => 0xBE70E88A#32
  | 79 => 0xBFA64130#32
  | 80 => 0x405CB70A#32
  | 81 => 0x3F93A24E#32
  | 82 => 0x3E80064F#32
  | 83 => 0xBF3BB134#32
  | 84 => 0x3FB3BB76#32
  | 85 => 0x3EAF1405#32
  | 86 => 0xBF04EC46#32
  | 87 => 0xBDE09E55#32
  | 88 => 0xBF0F8164#32
  | 89 => 0x3E64115F#32
  | 90 => 0xBEC1BB8D#32
  | 91 => 0x3F3D21D4#32
  | 92 => 0xBFA12FC9#32
  | 93 => 0xBDA2FFA5#32
  | 94 => 0x3EC9DD6A#32
  | 95 => 0x40641C7E#32
  | 96 => 0xBEBFF99B#32
  | 97 => 0x3FB725E6#32
  | 98 => 0x3F9F222C#32
  | 99 => 0x3EC6F784#32
  | 100 => 0x3F8B84CE#32
  | 101 => 0x3F930457#32
  | 102 => 0x3F0E5F49#32
  | 103 => 0xBF1F6926#32
  | 104 => 0x403974E7#32
  | 105 => 0x400679DB#32
  | 106 => 0xBF1DC182#32
  | 107 => 0x3D8FF906#32
  | 108 => 0x3BB93BC7#32
  | 109 => 0x3CCA571A#32
  | 110 => 0x3F06F42C#32
  | 111 => 0x3F15C94D#32
  | 112 => 0x3FC60ACB#32
  | 113 => 0x40168635#32
  | 114 => 0x3F939ADB#32
  | 115 => 0x3FB67446#32
  | 116 => 0x3D448326#32
  | 117 => 0x3F9F7E68#32
  | 118 => 0xBF9410E5#32
  | 119 => 0x3FC7A919#32
  | 120 => 0x3ECB728A#32
  | 121 => 0xBE16B50C#32
  | 122 => 0x3F898738#32
  | 123 => 0xBFA302D8#32
  | 124 => 0x3FD2CAD3#32
  | 125 => 0xBE87299B#32
  | 126 => 0xBF6DB9C5#32
  | 127 => 0x3C044551#32
  | _ => 0#32

noncomputable abbrev lit0t0_280 (i : Nat) : BitVec 32 := match i % 128 with
  | 0 => 0x3FA86CDC#32
  | 1 => 0x3F60C260#32
  | 2 => 0x3FC3F8C4#32
  | 3 => 0xBED4404F#32
  | 4 => 0xBDEAD924#32
  | 5 => 0x3FB7586A#32
  | 6 => 0x3F04AC56#32
  | 7 => 0x3F0D49EC#32
  | 8 => 0xBE95B38C#32
  | 9 => 0x3E851544#32
  | 10 => 0xBD8663F9#32
  | 11 => 0x3F5231E6#32
  | 12 => 0xBEFC3A1C#32
  | 13 => 0x3F8A8B7B#32
  | 14 => 0xBEC82D75#32
  | 15 => 0xBF2A1B0B#32
  | 16 => 0x3EF9C946#32
  | 17 => 0x3F8818A8#32
  | 18 => 0x3F54487A#32
  | 19 => 0xBEA8FEEE#32
  | 20 => 0x3F781F24#32
  | 21 => 0x3FCC578D#32
  | 22 => 0x3F202454#32
  | 23 => 0xBE80F5D9#32
  | 24 => 0x3E722B53#32
  | 25 => 0xBF0A8A33#32
  | 26 => 0x3FA2C41F#32
  | 27 => 0x3FD83553#32
  | 28 => 0x3F3044AC#32
  | 29 => 0x3F12F6B4#32
  | 30 => 0xBE88112F#32
  | 31 => 0x3FCC647D#32
  | 32 => 0x3EB134E1#32
  | 33 => 0x3F081457#32
  | 34 => 0x3F7A0C0F#32
  | 35 => 0xBCEBA34A#32
  | 36 => 0x3FEB89BF#32
  | 37 => 0x400D4234#32
  | 38 => 0x3FC54496#32
  | 39 => 0xBEFBC6AC#32
  | 40 => 0x3F1A2DDE#32
  | 41 => 0xBE9810C1#32
  | 42 => 0x3E21E107#32
  | 43 => 0x3F18193F#32
  | 44 => 0xBF963F43#32
  | 45 => 0x3FD51D94#32
  | 46 => 0xBEA0AD2C#32
  | 47 => 0xBFA6C410#32
  | 48 => 0x3F8C2F5E#32
  | 49 => 0x402D64D5#32
  | 50 => 0x3F872C88#32
  | 51 => 0x3E217C0B#32
  | 52 => 0x3E5E915F#32
  | 53 => 0xBF10DA29#32
  | 54 => 0xBF20CC00#32
  | 55 => 0x3E9F68C4#32
  | 56 => 0xBFA936F8#32
  | 57 => 0x3EBE9C96#32
  | 58 => 0x40546CE6#32
  | 59 => 0x3F06D7BA#32
  | 60 => 0xBF66BEBE#32
  | 61 => 0x403A40A3#32
  | 62 => 0x3FDE80C8#32
  | 63 => 0x3F16DD29#32
  | 64 => 0x3F2B4F9A#32
  | 65 => 0xBF4C8CD8#32
  | 66 => 0xBEE27ED2#32
  | 67 => 0xBF0FFF4C#32
  | 68 => 0xBED7E921#32
  | 69 => 0xBF8CD15D#32
  | 70 => 0x403271A3#32
  | 71 => 0x40D5EADA#32
  | 72 => 0x3C5AA698#32
  | 73 => 0x3F63273E#32
  | 74 => 0x3F40F502#32
  | 75 => 0x404A9255#32
  | 76 => 0xBCAC88D7#32
  | 77 => 0xBCB7355C#32
  | 78 => 0x40278D77#32
  | 79 => 0x40328705#32
  | 80 => 0x3D0C8D57#32
  | 81 => 0xBF865B30#32
  | 82 => 0x3E622F03#32
  | 83 => 0x3ECACE80#32
  | 84 => 0x3FAAF887#32
  | 85 => 0x3F81FF82#32
  | 86 => 0xBF0930D8#32
  | 87 => 0xBED781BB#32
  | 88 => 0x3F717F0E#32
  | 89 => 0xBE976392#32
  | 90 => 0x3E528A04#32
  | 91 => 0x3FB34BB9#32
  | 92 => 0x3F870C12#32
  | 93 => 0xBF359F98#32
  | 94 => 0x3F8DB402#32
  | 95 => 0x403F27BD#32
  | 96 => 0xBF4F738B#32
  | 97 => 0x3D34C8DC#32
  | 98 => 0x3F22CA9C#32
  | 99 => 0x3FD62628#32
  | 100 => 0x3C23B124#32
  | 101 => 0xBF4C8568#32
  | 102 => 0xBEDDBFC6#32
  | 103 => 0xBFA64AC4#32
  | 104 => 0x3FECF912#32
  | 105 => 0xBF3EC215#32
  | 106 => 0x3F0FBE68#32
  | 107 => 0x3EAE4562#32
  | 108 => 0x3DF5CF60#32
  | 109 => 0x3FBD8E08#32
  | 110 => 0x400C889C#32
  | 111 => 0xBDA8493F#32
  | 112 => 0x3EF07F1F#32
  | 113 => 0xBF26CF8B#32
  | 114 => 0xBF48FD59#32
  | 115 => 0x3FA41B24#32
  | 116 => 0xBF47D2EE#32
  | 117 => 0x3EE71C6A#32
  | 118 => 0xBF715B43#32
  | 119 => 0x4014AF7F#32
  | 120 => 0x3E1CA23B#32
  | 121 => 0x3DF9142D#32
  | 122 => 0x3E9D7BEB#32
  | 123 => 0x405054E8#32
  | 124 => 0x3F0380C0#32
  | 125 => 0x4032084D#32
  | 126 => 0xBDCB0BB8#32
  | 127 => 0x3F856FD7#32
  | _ => 0#32

noncomputable abbrev lit0t0_281 (i : Nat) : BitVec 32 := match i % 128 with
  | 0 => 0x3D2F6054#32
  | 1 => 0x3F5469EA#32
  | 2 => 0x3F905033#32
  | 3 => 0xBE12970E#32
  | 4 => 0xBE84C009#32
  | 5 => 0x3FD417F7#32
  | 6 => 0xBF383150#32
  | 7 => 0x3ECB5137#32
  | 8 => 0x4020C456#32
  | 9 => 0x3F61D66E#32
  | 10 => 0xBE9ADB3A#32
  | 11 => 0xBF8E4E13#32
  | 12 => 0x3F8DBAEF#32
  | 13 => 0x4025D506#32
  | 14 => 0x4026E24D#32
  | 15 => 0x3F2FE211#32
  | 16 => 0x3F0BACC7#32
  | 17 => 0xBFC2A62F#32
  | 18 => 0x3EA7D73D#32
  | 19 => 0x3DC24735#32
  | 20 => 0xBF5D8271#32
  | 21 => 0xBE9ACB24#32
  | 22 => 0x4004C1E1#32
  | 23 => 0x3DDDAF07#32
  | 24 => 0xBE9809A9#32
  | 25 => 0xBFAE9F25#32
  | 26 => 0x3F35BA75#32
  | 27 => 0x401D2AA9#32
  | 28 => 0xBFF4AE88#32
  | 29 => 0xBE60CCC2#32
  | 30 => 0x3EC0B026#32
  | 31 => 0xBF7A296C#32
  | 32 => 0xBE26179B#32
  | 33 => 0xBF61CE05#32
  | 34 => 0x3E2BFC9F#32
  | 35 => 0x3F838F21#32
  | 36 => 0x3F5C8329#32
  | 37 => 0x3F3972EF#32
  | 38 => 0x3B1FFCF4#32
  | 39 => 0xBEF6C4BF#32
  | 40 => 0x3EFF7072#32
  | 41 => 0x3DA22395#32
  | 42 => 0x3EAC86C1#32
  | 43 => 0x3F5FA4E7#32
  | 44 => 0x3EE41F84#32
  | 45 => 0x3F6DF4D4#32
  | 46 => 0x3FCBA592#32
  | 47 => 0x4011994B#32
  | 48 => 0x3E1237BF#32
  | 49 => 0xBF6285DC#32
  | 50 => 0x3F7511FE#32
  | 51 => 0x405CD6A7#32
  | 52 => 0x3F9314F9#32
  | 53 => 0xBE0D5E38#32
  | 54 => 0xBEF34944#32
  | 55 => 0xBEC3ECEC#32
  | 56 => 0x3FB9D9CC#32
  | 57 => 0x3F75B02A#32
  | 58 => 0x3EE4D79E#32
  | 59 => 0x3EFB2B96#32
  | 60 => 0x3DCAB5F5#32
  | 61 => 0x3F7B73FC#32
  | 62 => 0xBED53EEC#32
  | 63 => 0x3F56064B#32
  | 64 => 0xBE05CE72#32
  | 65 => 0xBF568278#32
  | 66 => 0x3FFFF16C#32
  | 67 => 0x3FC1F27E#32
  | 68 => 0xBFDB0E91#32
  | 69 => 0x3F4C2656#32
  | 70 => 0x3F1BA730#32
  | 71 => 0x3FAFD9BA#32
  | 72 => 0x3F94CCB1#32
  | 73 => 0xBE9A4152#32
  | 74 => 0x3E5E8D1F#32
  | 75 => 0xBE8B7918#32
  | 76 => 0x404BF9A4#32
  | 77 => 0x3F54F67F#32
  | 78 => 0xBF80B358#32
  | 79 => 0x3DD81A5E#32
  | 80 => 0xBE923DB5#32
  | 81 => 0xBDAFF078#32
  | 82 => 0x3FD2486E#32
  | 83 => 0x3F000122#32
  | 84 => 0x3F8ADE92#32
  | 85 => 0x3E9B15B2#32
  | 86 => 0x3F72EAC3#32
  | 87 => 0x3F090113#32
  | 88 => 0x3F9D1B86#32
  | 89 => 0xBF9870C2#32
  | 90 => 0x3F9C566E#32
  | 91 => 0x3E8F4BB2#32
  | 92 => 0x3F4619D4#32
  | 93 => 0x3DCA7233#32
  | 94 => 0x403B28EA#32
  | 95 => 0x3F74A2C5#32
  | 96 => 0x3FED35D6#32
  | 97 => 0xBF4E10BE#32
  | 98 => 0xBEF28329#32
  | 99 => 0x3E992116#32
  | 100 => 0x3F0CE055#32
  | 101 => 0x3F552860#32
  | 102 => 0x40129C95#32
  | 103 => 0xBE8CC44E#32
  | 104 => 0x4097AD26#32
  | 105 => 0xBF92F4DE#32
  | 106 => 0xBEC0D241#32
  | 107 => 0x3F40486F#32
  | 108 => 0x3F92B7E0#32
  | 109 => 0x3F5E5D85#32
  | 110 => 0x3E8EA751#32
  | 111 => 0x3F1987E4#32
  | 112 => 0xBC206FC0#32
  | 113 => 0x3F970DA2#32
  | 114 => 0xBD82D383#32
  | 115 => 0x3F7E4964#32
  | 116 => 0xBF658034#32
  | 117 => 0x3F904BF6#32
  | 118 => 0x3ED29111#32
  | 119 => 0x3F430808#32
  | 120 => 0xBE899A30#32
  | 121 => 0x40061AC2#32
  | 122 => 0x3F964921#32
  | 123 => 0xBF01C83D#32
  | 124 => 0xBE1BAE29#32
  | 125 => 0x3EE314F4#32
  | 126 => 0x3DBCDE51#32
  | 127 => 0x401D2717#32
  | _ => 0#32

noncomputable abbrev lit0t0_282 (i : Nat) : BitVec 32 := match i % 128 with
  | 0 => 0x3F60523C#32
  | 1 => 0xBDDDEEF2#32
  | 2 => 0x3D5AD359#32
  | 3 => 0x3FE6F429#32
  | 4 => 0x40339B90#32
  | 5 => 0x3EABF4BA#32
  | 6 => 0xBB7098CD#32
  | 7 => 0x3E565E1A#32
  | 8 => 0x3F9F01A5#32
  | 9 => 0x40410EE9#32
  | 10 => 0x3F215008#32
  | 11 => 0xBF9004F6#32
  | 12 => 0x3F5EEA58#32
  | 13 => 0x401EA99E#32
  | 14 => 0x3F332535#32
  | 15 => 0xBFAFB135#32
  | 16 => 0x400CD1B3#32
  | 17 => 0x3F484C31#32
  | 18 => 0xBE2A09F6#32
  | 19 => 0x3F352EF2#32
  | 20 => 0x3F0C600D#32
  | 21 => 0xBC515D17#32
  | 22 => 0xBCF36B6E#32
  | 23 => 0xBE1CEADF#32
  | 24 => 0x3E0F128D#32
  | 25 => 0xBF52659A#32
  | 26 => 0x3EB3872D#32
  | 27 => 0x3FC72E26#32
  | 28 => 0x3DC75258#32
  | 29 => 0x3F931C5F#32
  | 30 => 0x3F85FFBD#32
  | 31 => 0xBF207F13#32
  | 32 => 0x3F16E9FC#32
  | 33 => 0x3F60322B#32
  | 34 => 0x3F1597E9#32
  | 35 => 0xBFB4F457#32
  | 36 => 0x3FCD2B9B#32
  | 37 => 0x3F009252#32
  | 38 => 0xBDBB3EBE#32
  | 39 => 0x3F20452A#32
  | 40 => 0xBE6FE31F#32
  | 41 => 0xBF0A910B#32
  | 42 => 0xBECE8E4A#32
  | 43 => 0x3F2BECA6#32
  | 44 => 0x401BCD88#32
  | 45 => 0xBDB27D57#32
  | 46 => 0xBF0322A4#32
  | 47 => 0xBD96F80E#32
  | 48 => 0x3F1A687F#32
  | 49 => 0x3E0E2C44#32
  | 50 => 0xBF8CAB7F#32
  | 51 => 0x3E37B342#32
  | 52 => 0xBF910A64#32
  | 53 => 0xBF3C9412#32
  | 54 => 0x3EDAA9F2#32
  | 55 => 0xBF758BDE#32
  | 56 => 0x404AB06E#32
  | 57 => 0xBF1E742E#32
  | 58 => 0xBEE0B7E3#32
  | 59 => 0x40961282#32
  | 60 => 0x3A0A695A#32
  | 61 => 0x3D8BF7DD#32
  | 62 => 0x3EAC905D#32
  | 63 => 0x3F7D9A82#32
  | 64 => 0x3F936C2A#32
  | 65 => 0x4023398C#32
  | 66 => 0xBEDB51AC#32
  | 67 => 0xBEF2397C#32
  | 68 => 0xBF887846#32
  | 69 => 0xBF64D29A#32
  | 70 => 0x402828C7#32
  | 71 => 0x4026C67C#32
  | 72 => 0x3F653C1A#32
  | 73 => 0x3F2F5F26#32
  | 74 => 0xBF49EAA6#32
  | 75 => 0x3D973BC5#32
  | 76 => 0x3FA0712B#32
  | 77 => 0xBE0676CB#32
  | 78 => 0x3F0C5BC4#32
  | 79 => 0x3FABAD1D#32
  | 80 => 0x3F024DD2#32
  | 81 => 0xBE3328A4#32
  | 82 => 0x3FCF9980#32
  | 83 => 0x40493A81#32
  | 84 => 0x3F38F15D#32
  | 85 => 0x4035C336#32
  | 86 => 0xBF558915#32
  | 87 => 0xBFBC25B2#32
  | 88 => 0x3FF923F6#32
  | 89 => 0x3E5A3870#32
  | 90 => 0x3F87B7C9#32
  | 91 => 0x3E9B9C9E#32
  | 92 => 0xBF009156#32
  | 93 => 0xBF1C4CE5#32
  | 94 => 0x3F2B259A#32
  | 95 => 0x3FBFE784#32
  | 96 => 0x3F35952F#32
  | 97 => 0x3EF66460#32
  | 98 => 0x3E93779D#32
  | 99 => 0x3F6B1C38#32
  | 100 => 0xBEB3C07C#32
  | 101 => 0x3FA8028A#32
  | 102 => 0x3FA9D07E#32
  | 103 => 0xBE4D9847#32
  | 104 => 0xBDE92F5F#32
  | 105 => 0xBD47B09F#32
  | 106 => 0xBEBE3BE4#32
  | 107 => 0x3FCD3EBC#32
  | 108 => 0x402F9616#32
  | 109 => 0x3E33EAD8#32
  | 110 => 0xBF85838A#32
  | 111 => 0x40310760#32
  | 112 => 0xBED35EAF#32
  | 113 => 0xBE4EDE72#32
  | 114 => 0xBF2D34FA#32
  | 115 => 0xBF8C0212#32
  | 116 => 0x3E82B701#32
  | 117 => 0xBEF24D72#32
  | 118 => 0xBFD894EC#32
  | 119 => 0x404481A8#32
  | 120 => 0x3EE95F14#32
  | 121 => 0x3F9F81AB#32
  | 122 => 0x3E87BD7F#32
  | 123 => 0x3F59320C#32
  | 124 => 0xBEF5F915#32
  | 125 => 0x3F09BBA8#32
  | 126 => 0x40635E6C#32
  | 127 => 0xC001B535#32
  | _ => 0#32

noncomputable abbrev lit0t0_283 (i : Nat) : BitVec 32 := match i % 128 with
  | 0 => 0x3E897B90#32
  | 1 => 0x401242BD#32
  | 2 => 0xBE446B07#32
  | 3 => 0xBEE99BA8#32
  | 4 => 0x3F84D3DC#32
  | 5 => 0x3F6D02D3#32
  | 6 => 0x3F98CBAC#32
  | 7 => 0x3F2B0DD5#32
  | 8 => 0xBFA5FA9E#32
  | 9 => 0xBE30B864#32
  | 10 => 0x3EC1800A#32
  | 11 => 0x3FDCD261#32
  | 12 => 0x3F7E4470#32
  | 13 => 0x3E282DDB#32
  | 14 => 0xBEA750C2#32
  | 15 => 0x3F17851E#32
  | 16 => 0xBF014715#32
  | 17 => 0xBEA30764#32
  | 18 => 0x401E82D6#32
  | 19 => 0xBF07C87A#32
  | 20 => 0x407DF0AE#32
  | 21 => 0x3F7A0C2E#32
  | 22 => 0xBEE84EDE#32
  | 23 => 0x3F3E4839#32
  | 24 => 0x3F140858#32
  | 25 => 0xBF9F9AC2#32
  | 26 => 0x3FB8DDE0#32
  | 27 => 0xBED5CADB#32
  | 28 => 0x3EB4F218#32
  | 29 => 0x3F81F0E2#32
  | 30 => 0xBF4C81EF#32
  | 31 => 0x3E7B2CB7#32
  | 32 => 0x3EA88B67#32
  | 33 => 0x4009F61B#32
  | 34 => 0xBF4AF6F2#32
  | 35 => 0xBE0AC389#32
  | 36 => 0x3F9C8CD1#32
  | 37 => 0x3E2AD6A7#32
  | 38 => 0x3F84975D#32
  | 39 => 0x3FCE63FA#32
  | 40 => 0x3F91C626#32
  | 41 => 0x3F9C92AE#32
  | 42 => 0xBE81F9F0#32
  | 43 => 0xBF997976#32
  | 44 => 0xBE7D8A2B#32
  | 45 => 0xBF570E09#32
  | 46 => 0xBF1C4105#32
  | 47 => 0x3F6BFBD7#32
  | 48 => 0x403ADDC7#32
  | 49 => 0x3F5D4C0E#32
  | 50 => 0xBCA488E9#32
  | 51 => 0xBEB5FCED#32
  | 52 => 0x3FCC25D6#32
  | 53 => 0xBEC60D76#32
  | 54 => 0x4033BEC2#32
  | 55 => 0x4014AF30#32
  | 56 => 0x3F041055#32
  | 57 => 0xBF8BAC09#32
  | 58 => 0x4033E383#32
  | 59 => 0xBF2BF300#32
  | 60 => 0xBC8AC46A#32
  | 61 => 0x3F8B5FB1#32
  | 62 => 0xBF7F9400#32
  | 63 => 0x3FC4F501#32
  | 64 => 0xBE32C163#32
  | 65 => 0x3F28E697#32
  | 66 => 0x3FDE5166#32
  | 67 => 0xBC9EAC0F#32
  | 68 => 0xBE734267#32
  | 69 => 0x3F8AF7F0#32
  | 70 => 0x40313934#32
  | 71 => 0xBF29FB96#32
  | 72 => 0xBED26458#32
  | 73 => 0xBEF70D2A#32
  | 74 => 0xBF3BEAB6#32
  | 75 => 0x4099664B#32
  | 76 => 0x3F983D28#32
  | 77 => 0x3DC3AC87#32
  | 78 => 0x3F81A4F0#32
  | 79 => 0x3EE3F684#32
  | 80 => 0x4009F54F#32
  | 81 => 0xBEFB02E0#32
  | 82 => 0x40018755#32
  | 83 => 0xBF04D61D#32
  | 84 => 0x3ED8D9E6#32
  | 85 => 0xBD14BE68#32
  | 86 => 0x3F4273A2#32
  | 87 => 0x3EEFE1B0#32
  | 88 => 0x3EE939D2#32
  | 89 => 0xBEF2CF08#32
  | 90 => 0x3FDF29D2#32
  | 91 => 0x3EE21169#32
  | 92 => 0x3F1B90A7#32
  | 93 => 0xBF272A22#32
  | 94 => 0xBE9EE2A9#32
  | 95 => 0x3C7EBC57#32
  | 96 => 0xBF520F29#32
  | 97 => 0x3FA1047F#32
  | 98 => 0xBCB162C8#32
  | 99 => 0x3E244795#32
  | 100 => 0x3F20D3E0#32
  | 101 => 0x3EA5FF32#32
  | 102 => 0xBF430D5E#32
  | 103 => 0x405242C7#32
  | 104 => 0x3FFB4591#32
  | 105 => 0xBF58AEBE#32
  | 106 => 0x3FB8325D#32
  | 107 => 0xBE441240#32
  | 108 => 0x3F8AB93E#32
  | 109 => 0x4018A20E#32
  | 110 => 0x3FB1A9AD#32
  | 111 => 0x3F80B249#32
  | 112 => 0xBEE8872C#32
  | 113 => 0x3EC8EC41#32
  | 114 => 0x3EFF6FBC#32
  | 115 => 0x3F8CC24D#32
  | 116 => 0xBF140E71#32
  | 117 => 0x3FE5AA2F#32
  | 118 => 0xBF98C00E#32
  | 119 => 0x3F60B313#32
  | 120 => 0xBD825127#32
  | 121 => 0xBF9C4A11#32
  | 122 => 0x3FA3F3F4#32
  | 123 => 0x3F9AFD92#32
  | 124 => 0x3F51CDE4#32
  | 125 => 0x3BB24EF8#32
  | 126 => 0xBF660B37#32
  | 127 => 0x3F01F59B#32
  | _ => 0#32

noncomputable abbrev lit0t0_284 (i : Nat) : BitVec 32 := match i % 128 with
  | 0 => 0x3E2801E3#32
  | 1 => 0xBE764020#32
  | 2 => 0x3FC0041C#32
  | 3 => 0x3D13753A#32
  | 4 => 0x3E1E1AC3#32
  | 5 => 0x3F8693D8#32
  | 6 => 0x3EE0C3F0#32
  | 7 => 0x4045B224#32
  | 8 => 0xBDD55E95#32
  | 9 => 0x405DC319#32
  | 10 => 0xBE025E2D#32
  | 11 => 0x3FABC141#32
  | 12 => 0xBF0EFAE3#32
  | 13 => 0x40072CD8#32
  | 14 => 0x3F52BDEE#32
  | 15 => 0x40291A9E#32
  | 16 => 0x3F7F4256#32
  | 17 => 0x401D93E3#32
  | 18 => 0xBF7D7341#32
  | 19 => 0x401B757F#32
  | 20 => 0xBE836F19#32
  | 21 => 0x3F265A21#32
  | 22 => 0x3EEECA00#32
  | 23 => 0x3FFF2AD8#32
  | 24 => 0x4085B2AA#32
  | 25 => 0x3E364F30#32
  | 26 => 0xBFBE6F40#32
  | 27 => 0xBD1AD928#32
  | 28 => 0xBDD3EBE4#32
  | 29 => 0x4003430D#32
  | 30 => 0xBD569226#32
  | 31 => 0x3F9D4BDE#32
  | 32 => 0xBE9ACD0F#32
  | 33 => 0x3FB9E8C5#32
  | 34 => 0xBFB6E7F4#32
  | 35 => 0x40009A1B#32
  | 36 => 0xBE8637B2#32
  | 37 => 0x40867ECD#32
  | 38 => 0x3FAA3192#32
  | 39 => 0x3E27F098#32
  | 40 => 0x3FD95249#32
  | 41 => 0xBED93F8D#32
  | 42 => 0x3F5ADA36#32
  | 43 => 0x3F4B1BED#32
  | 44 => 0x3E9B1FDF#32
  | 45 => 0xBF7B66DE#32
  | 46 => 0x3FA4A0F7#32
  | 47 => 0xBDBCDA4A#32
  | 48 => 0xBF429E7F#32
  | 49 => 0xBF8FA3BF#32
  | 50 => 0x3E9C1EB6#32
  | 51 => 0xBEEF890B#32
  | 52 => 0xBEDFF086#32
  | 53 => 0x3E92B8CD#32
  | 54 => 0x3ED1073B#32
  | 55 => 0x40329CA1#32
  | 56 => 0xBEF7F05E#32
  | 57 => 0x4012E6F4#32
  | 58 => 0x3E8DBB19#32
  | 59 => 0xBF1544A1#32
  | 60 => 0x3F2204A8#32
  | 61 => 0x405C2B91#32
  | 62 => 0x3EE387A4#32
  | 63 => 0xBEC1E055#32
  | 64 => 0x3F2575AA#32
  | 65 => 0x4004C9EA#32
  | 66 => 0x3EAE3CD7#32
  | 67 => 0xBF29654E#32
  | 68 => 0x402C6E13#32
  | 69 => 0xBF96ACAC#32
  | 70 => 0x3F4D46E2#32
  | 71 => 0xBF74C95E#32
  | 72 => 0x3FC73723#32
  | 73 => 0xBD331AE5#32
  | 74 => 0x408B5692#32
  | 75 => 0x3EB0C184#32
  | 76 => 0x3F35FC26#32
  | 77 => 0x4026D7CE#32
  | 78 => 0xBF3B27B9#32
  | 79 => 0xBF278733#32
  | 80 => 0x3F999117#32
  | 81 => 0xBE2D0FAA#32
  | 82 => 0xBF48407A#32
  | 83 => 0x3FEC7CF5#32
  | 84 => 0xBDEE8137#32
  | 85 => 0xBDEB168D#32
  | 86 => 0x4030B877#32
  | 87 => 0xBEADF1D9#32
  | 88 => 0x3F3FCCAE#32
  | 89 => 0x3E41CDA1#32
  | 90 => 0xBF7AC265#32
  | 91 => 0xBFBDF069#32
  | 92 => 0x3FCADF76#32
  | 93 => 0xBEAA9202#32
  | 94 => 0x3F8DB9D0#32
  | 95 => 0x3F43C4B3#32
  | 96 => 0x40611147#32
  | 97 => 0x3E4ED996#32
  | 98 => 0x3E021DCD#32
  | 99 => 0xBF878596#32
  | 100 => 0x3F119BC7#32
  | 101 => 0x3FCE38E9#32
  | 102 => 0x3EC757A1#32
  | 103 => 0xBFC24FFD#32
  | 104 => 0x3F08D40E#32
  | 105 => 0xBE5388B1#32
  | 106 => 0x3E18CB52#32
  | 107 => 0x3FFA27B2#32
  | 108 => 0xBF75FC8B#32
  | 109 => 0xBE8E19C0#32
  | 110 => 0x3EE0EBB4#32
  | 111 => 0x3D58240F#32
  | 112 => 0x3EC2001B#32
  | 113 => 0xBEA01810#32
  | 114 => 0x3DA8BC6C#32
  | 115 => 0xBF06C89A#32
  | 116 => 0x3DF1E423#32
  | 117 => 0xBE8B4A40#32
  | 118 => 0x400AB5BB#32
  | 119 => 0x4074F954#32
  | 120 => 0xBFA187A7#32
  | 121 => 0x3F6089AE#32
  | 122 => 0x3F15B917#32
  | 123 => 0x3F812B03#32
  | 124 => 0x40117EC2#32
  | 125 => 0x3F4FA2E9#32
  | 126 => 0x404769CC#32
  | 127 => 0x3FD8D0C4#32
  | _ => 0#32

noncomputable abbrev lit0t0_285 (i : Nat) : BitVec 32 := match i % 128 with
  | 0 => 0x40101831#32
  | 1 => 0x3FA3D747#32
  | 2 => 0x3F3C8672#32
  | 3 => 0x3F32C682#32
  | 4 => 0x3F1D78C3#32
  | 5 => 0xBF3BB0C1#32
  | 6 => 0xBF650FAD#32
  | 7 => 0xBF8FD16A#32
  | 8 => 0x3E8EF703#32
  | 9 => 0xBF08A4FD#32
  | 10 => 0x3E6C5E56#32
  | 11 => 0xBDFC4B38#32
  | 12 => 0xBF36EC40#32
  | 13 => 0x3F9FABE5#32
  | 14 => 0x3E9511C3#32
  | 15 => 0x3F445E6F#32
  | 16 => 0x3DDB010F#32
  | 17 => 0xBEB22262#32
  | 18 => 0x3F101349#32
  | 19 => 0x40012851#32
  | 20 => 0x3F58C543#32
  | 21 => 0xBF0F8186#32
  | 22 => 0xBE81B50E#32
  | 23 => 0xBEA564C4#32
  | 24 => 0xBE2949C1#32
  | 25 => 0x3FD4C365#32
  | 26 => 0x3E9F5752#32
  | 27 => 0x3FACE9D1#32
  | 28 => 0xBF114932#32
  | 29 => 0xBF98B304#32
  | 30 => 0xBF1B2910#32
  | 31 => 0x3ECE2888#32
  | 32 => 0x3FFE91BA#32
  | 33 => 0x4014CCBF#32
  | 34 => 0x3FA6B08D#32
  | 35 => 0x3FBCEF03#32
  | 36 => 0x3F6FFFDD#32
  | 37 => 0x40361B6F#32
  | 38 => 0x3FA299BA#32
  | 39 => 0x4006353E#32
  | 40 => 0x3D02A26B#32
  | 41 => 0x3F289A74#32
  | 42 => 0xBF537284#32
  | 43 => 0xBF8E6044#32
  | 44 => 0x3D887272#32
  | 45 => 0xBFC047D9#32
  | 46 => 0x3F5F9900#32
  | 47 => 0x406E7B3F#32
  | 48 => 0x3F2243E5#32
  | 49 => 0x3F68AEE4#32
  | 50 => 0xBED7DEDF#32
  | 51 => 0x40173DC8#32
  | 52 => 0xBE50DC4A#32
  | 53 => 0x3FB71E14#32
  | 54 => 0xBF1F7172#32
  | 55 => 0x3E9BEB32#32
  | 56 => 0xBF4B4074#32
  | 57 => 0xBB2E16C1#32
  | 58 => 0x3F1AEC63#32
  | 59 => 0xBE8C1F4B#32
  | 60 => 0x404F87A6#32
  | 61 => 0x3FEE6600#32
  | 62 => 0x3ED4E47F#32
  | 63 => 0x3FF4DB63#32
  | 64 => 0x3F8055BF#32
  | 65 => 0xBE13F9CD#32
  | 66 => 0x3EBE674C#32
  | 67 => 0x3E22A49D#32
  | 68 => 0x3FC97156#32
  | 69 => 0x3F0FD6AA#32
  | 70 => 0xBF130E48#32
  | 71 => 0xBF590D04#32
  | 72 => 0x3F126A4C#32
  | 73 => 0x3F052870#32
  | 74 => 0xBEF0F294#32
  | 75 => 0xBFA03D8E#32
  | 76 => 0x40BFFF06#32
  | 77 => 0x4045497C#32
  | 78 => 0x40199EB6#32
  | 79 => 0x3F18F4B6#32
  | 80 => 0x3E95DF8D#32
  | 81 => 0x3D963BC3#32
  | 82 => 0x3F06DB24#32
  | 83 => 0x3F7DD0E0#32
  | 84 => 0x3ED3CC27#32
  | 85 => 0xBEAB936D#32
  | 86 => 0x3EE49483#32
  | 87 => 0x40547F28#32
  | 88 => 0x3F2E58EE#32
  | 89 => 0xBEAC323B#32
  | 90 => 0x3F5713AC#32
  | 91 => 0x40149468#32
  | 92 => 0x3E668CCC#32
  | 93 => 0x40071E38#32
  | 94 => 0x3E85AFAE#32
  | 95 => 0x3E9FB99F#32
  | 96 => 0xBECA3935#32
  | 97 => 0xBE00F311#32
  | 98 => 0xBFB32449#32
  | 99 => 0xBEF3C9BD#32
  | 100 => 0xBF308837#32
  | 101 => 0x3F83F719#32
  | 102 => 0xBF19F1FA#32
  | 103 => 0x4023D7A0#32
  | 104 => 0x3F75C437#32
  | 105 => 0x3F9ABF96#32
  | 106 => 0xBFD3AAE8#32
  | 107 => 0xBE1B40F7#32
  | 108 => 0x4023ABD8#32
  | 109 => 0xBF48FED1#32
  | 110 => 0x3EBFD70C#32
  | 111 => 0xBF31ECCF#32
  | 112 => 0x3FACD09A#32
  | 113 => 0x3F857F1A#32
  | 114 => 0xBF779DA6#32
  | 115 => 0xBDD6570D#32
  | 116 => 0x3DDDD7B4#32
  | 117 => 0x3FA0C988#32
  | 118 => 0x3FA3B7F9#32
  | 119 => 0xBF44F6AC#32
  | 120 => 0xBF2B64BB#32
  | 121 => 0xBDF7B147#32
  | 122 => 0x3FDC7A4E#32
  | 123 => 0x3F98AB3E#32
  | 124 => 0x3F7F5442#32
  | 125 => 0x3DEB9009#32
  | 126 => 0x3E9D01AC#32
  | 127 => 0x3F1632F2#32
  | _ => 0#32

noncomputable abbrev lit0t0_286 (i : Nat) : BitVec 32 := match i % 128 with
  | 0 => 0x3F985141#32
  | 1 => 0xBBD47F3B#32
  | 2 => 0xBF15857A#32
  | 3 => 0xBF21702A#32
  | 4 => 0xBF585E2D#32
  | 5 => 0x3FDB34A1#32
  | 6 => 0x40A4E8D1#32
  | 7 => 0x3EC424C5#32
  | 8 => 0xBF8B5DC1#32
  | 9 => 0x3C4BA11C#32
  | 10 => 0x3D87D803#32
  | 11 => 0x3DE5EA4A#32
  | 12 => 0xBF2DA231#32
  | 13 => 0x3FFA9739#32
  | 14 => 0xBF143BFC#32
  | 15 => 0xBFDA3EA2#32
  | 16 => 0xBF20ADD6#32
  | 17 => 0xBF07B3D4#32
  | 18 => 0x3F11AEF4#32
  | 19 => 0x3FF16E18#32
  | 20 => 0xBE09A127#32
  | 21 => 0x3E30536D#32
  | 22 => 0x3E5A707B#32
  | 23 => 0xBFC256F8#32
  | 24 => 0xBF3BAA22#32
  | 25 => 0x3E9A69CB#32
  | 26 => 0x3E28635E#32
  | 27 => 0x3E6DF961#32
  | 28 => 0x3FA2AC90#32
  | 29 => 0x3FF21715#32
  | 30 => 0x3F5A3C34#32
  | 31 => 0x3EBC8E92#32
  | 32 => 0x3EB06140#32
  | 33 => 0x40270EAE#32
  | 34 => 0x3F8E3DE2#32
  | 35 => 0xBF84BA29#32
  | 36 => 0xBEE4895F#32
  | 37 => 0x403D5742#32
  | 38 => 0x3F1FD24B#32
  | 39 => 0x3FD2E058#32
  | 40 => 0xBEC909AE#32
  | 41 => 0xBF1B69E8#32
  | 42 => 0x3EC4CF05#32
  | 43 => 0x3F1B03D1#32
  | 44 => 0x3F24CD51#32
  | 45 => 0x3FEDF089#32
  | 46 => 0x40009D85#32
  | 47 => 0xBF4986C8#32
  | 48 => 0x3FBC3A25#32
  | 49 => 0xBFA06E4A#32
  | 50 => 0x407B3DCD#32
  | 51 => 0xBF106396#32
  | 52 => 0xBF8E49DC#32
  | 53 => 0x3FAB321B#32
  | 54 => 0x3FC73787#32
  | 55 => 0x3EB265D2#32
  | 56 => 0xBFB3D89F#32
  | 57 => 0x3E9DA093#32
  | 58 => 0x401ACF96#32
  | 59 => 0xBED38DC8#32
  | 60 => 0x3FDD334B#32
  | 61 => 0x4035039B#32
  | 62 => 0x3FAFDA72#32
  | 63 => 0x40356D04#32
  | 64 => 0xBE7B0F4C#32
  | 65 => 0x3F86EDE2#32
  | 66 => 0xBF47455A#32
  | 67 => 0x3FF929B5#32
  | 68 => 0x3F104601#32
  | 69 => 0x40784B79#32
  | 70 => 0xBE8A7BBC#32
  | 71 => 0x3F6140F8#32
  | 72 => 0x3F57B2F7#32
  | 73 => 0xBF9161D5#32
  | 74 => 0x3F279291#32
  | 75 => 0x3E5BF1DF#32
  | 76 => 0xBEB54D7F#32
  | 77 => 0x40170B37#32
  | 78 => 0x3C0BC1EA#32
  | 79 => 0xBF881656#32
  | 80 => 0x3F4C7154#32
  | 81 => 0x401D522A#32
  | 82 => 0x3F10BB16#32
  | 83 => 0xBF9257B2#32
  | 84 => 0xBF663C62#32
  | 85 => 0x3F8339EE#32
  | 86 => 0x404C65BE#32
  | 87 => 0x3E00F33B#32
  | 88 => 0xBF3D53D6#32
  | 89 => 0x3FD378C1#32
  | 90 => 0x402546D4#32
  | 91 => 0x3F88202A#32
  | 92 => 0x3EE27CE7#32
  | 93 => 0xBE8A257B#32
  | 94 => 0xBF0004B4#32
  | 95 => 0x3F1A819F#32
  | 96 => 0x3ED9D36D#32
  | 97 => 0xBF9FAFE7#32
  | 98 => 0x403EF6A9#32
  | 99 => 0xBF9158B0#32
  | 100 => 0x400300A8#32
  | 101 => 0xBEB7DDF3#32
  | 102 => 0x3FE04ACD#32
  | 103 => 0xBF9A013C#32
  | 104 => 0xBE2FDFF6#32
  | 105 => 0x3F97E35D#32
  | 106 => 0xBE12754F#32
  | 107 => 0x406A6E5E#32
  | 108 => 0x3F937EF7#32
  | 109 => 0x4033DCAF#32
  | 110 => 0xBF3E2C85#32
  | 111 => 0x3E155757#32
  | 112 => 0xBC23A0A1#32
  | 113 => 0x3F9F6F2F#32
  | 114 => 0x3E2B6994#32
  | 115 => 0xBF2C446C#32
  | 116 => 0x3FBE3D5D#32
  | 117 => 0x3F52AF4E#32
  | 118 => 0xBEE12ECA#32
  | 119 => 0x3F26CF1A#32
  | 120 => 0xBE05BEF4#32
  | 121 => 0x40591B71#32
  | 122 => 0xBEE2422E#32
  | 123 => 0xBFDC784B#32
  | 124 => 0x3F049890#32
  | 125 => 0xBF51FFBA#32
  | 126 => 0x3F87BA6F#32
  | 127 => 0x3C1A5909#32
  | _ => 0#32

noncomputable abbrev lit0t0_287 (i : Nat) : BitVec 32 := match i % 128 with
  | 0 => 0x3FB4C34E#32
  | 1 => 0x3F1CEDCD#32
  | 2 => 0x3E9E1973#32
  | 3 => 0x3D8D122D#32
  | 4 => 0x3F3E9EAE#32
  | 5 => 0x3F9DC6EF#32
  | 6 => 0xBF49305A#32
  | 7 => 0x3D31AD6E#32
  | 8 => 0x3F93FD72#32
  | 9 => 0x3F8861B2#32
  | 10 => 0x3FC7D2CF#32
  | 11 => 0x3F8009DF#32
  | 12 => 0x3F07CE20#32
  | 13 => 0xBE8315D1#32
  | 14 => 0x3FA0EC6F#32
  | 15 => 0x3F95285F#32
  | 16 => 0x3ED2A968#32
  | 17 => 0xBF521477#32
  | 18 => 0x3FE2AC76#32
  | 19 => 0x3FEA344F#32
  | 20 => 0xBEBF1F8D#32
  | 21 => 0xBF178B1B#32
  | 22 => 0x3FD10132#32
  | 23 => 0xBE8B468A#32
  | 24 => 0x3E8744A0#32
  | 25 => 0x3FC1B5EE#32
  | 26 => 0x40457BE0#32
  | 27 => 0xBF307281#32
  | 28 => 0xBD5454D1#32
  | 29 => 0x4006C02B#32
  | 30 => 0x3F81EC98#32
  | 31 => 0xBEBF0AF6#32
  | 32 => 0x3E61636F#32
  | 33 => 0xBEE95C3C#32
  | 34 => 0x3CF9733A#32
  | 35 => 0xBE8FC0A6#32
  | 36 => 0x3DE8851B#32
  | 37 => 0x3FBBE815#32
  | 38 => 0x3F247500#32
  | 39 => 0xBFBF37C6#32
  | 40 => 0x3E440C22#32
  | 41 => 0xBE893A50#32
  | 42 => 0xBEBBA209#32
  | 43 => 0x3E96E5F9#32
  | 44 => 0xBF640B98#32
  | 45 => 0x3E0FD13E#32
  | 46 => 0x3ECA374D#32
  | 47 => 0x40034662#32
  | 48 => 0x407C17B1#32
  | 49 => 0x3F6147E6#32
  | 50 => 0x3FBF1A00#32
  | 51 => 0x3EEB3854#32
  | 52 => 0xBF09184E#32
  | 53 => 0xBEE2D286#32
  | 54 => 0xBF63450B#32
  | 55 => 0x3F0AFCC8#32
  | 56 => 0x3E5736CA#32
  | 57 => 0x3DB7B9D0#32
  | 58 => 0x3DEDBB90#32
  | 59 => 0x3F42899A#32
  | 60 => 0xBF999520#32
  | 61 => 0x40100818#32
  | 62 => 0x3EACCD1A#32
  | 63 => 0x3F5948BC#32
  | 64 => 0xBF0A320B#32
  | 65 => 0xBF7C1F82#32
  | 66 => 0x3FE1BE43#32
  | 67 => 0x3F00641A#32
  | 68 => 0x400E8200#32
  | 69 => 0xBF728DB0#32
  | 70 => 0x3F9B16BF#32
  | 71 => 0x3F639993#32
  | 72 => 0xBFB0D006#32
  | 73 => 0x3B74C3DD#32
  | 74 => 0x3FBECBDF#32
  | 75 => 0xBDB8F03A#32
  | 76 => 0xBE97CF57#32
  | 77 => 0xBFF13E63#32
  | 78 => 0x3F6F8848#32
  | 79 => 0xBFA6DDA2#32
  | 80 => 0x40021085#32
  | 81 => 0x406B37C1#32
  | 82 => 0x3DAE20E5#32
  | 83 => 0x3E821F8C#32
  | 84 => 0x3FD91844#32
  | 85 => 0x3F095CE0#32
  | 86 => 0xBE564679#32
  | 87 => 0xBE84A20A#32
  | 88 => 0x3FD170D9#32
  | 89 => 0x3E7E7934#32
  | 90 => 0x3FAEFE8A#32
  | 91 => 0xBFD08797#32
  | 92 => 0xBEB07591#32
  | 93 => 0x40156280#32
  | 94 => 0x3EE2A377#32
  | 95 => 0x3DED35DD#32
  | 96 => 0x3F6BF642#32
  | 97 => 0x40155118#32
  | 98 => 0xBF0541F8#32
  | 99 => 0x3EA14B8A#32
  | 100 => 0x401A377A#32
  | 101 => 0x3F374CEF#32
  | 102 => 0x3FA0E4F9#32
  | 103 => 0xBC906BAF#32
  | 104 => 0x3F4AC312#32
  | 105 => 0x3F83D649#32
  | 106 => 0x3F12B151#32
  | 107 => 0x3EC6A607#32
  | 108 => 0xBF91CAE6#32
  | 109 => 0x3E7C374A#32
  | 110 => 0x400FD708#32
  | 111 => 0xBFB5C6DC#32
  | 112 => 0x408DB5F5#32
  | 113 => 0x3EFB4FB4#32
  | 114 => 0xBCABAFF2#32
  | 115 => 0x3D4A75C8#32
  | 116 => 0xBF9AA03C#32
  | 117 => 0xBF66A418#32
  | 118 => 0xBDD7B23E#32
  | 119 => 0x3CAB50E6#32
  | 120 => 0x3F0F0FCF#32
  | 121 => 0xBF9AA6BD#32
  | 122 => 0x3F2C0598#32
  | 123 => 0x3FBDBF65#32
  | 124 => 0x3DF5A395#32
  | 125 => 0x3B8F996F#32
  | 126 => 0xBF373567#32
  | 127 => 0x3F565396#32
  | _ => 0#32

noncomputable abbrev lit0t0_288 (i : Nat) : BitVec 32 := match i % 128 with
  | 0 => 0xBE5B1EDB#32
  | 1 => 0xBFE9E9A4#32
  | 2 => 0xBDD505C5#32
  | 3 => 0x3F3E5568#32
  | 4 => 0x40F348C8#32
  | 5 => 0xBD6CD1DD#32
  | 6 => 0xBF1ACF23#32
  | 7 => 0x4004EA6D#32
  | 8 => 0x3EAA506A#32
  | 9 => 0x3E2EB9F0#32
  | 10 => 0x402BF4C8#32
  | 11 => 0x3E76BE1A#32
  | 12 => 0x3F07B764#32
  | 13 => 0x3F3B5720#32
  | 14 => 0x3F58EB10#32
  | 15 => 0xBEEE8282#32
  | 16 => 0x3FA443AE#32
  | 17 => 0xBF498F02#32
  | 18 => 0xBFA8F43B#32
  | 19 => 0x40C63FD6#32
  | 20 => 0x3FBC18F0#32
  | 21 => 0x3E43D710#32
  | 22 => 0xBD7FD4D1#32
  | 23 => 0xBF7371FD#32
  | 24 => 0xBEE188C0#32
  | 25 => 0x3FC2A23D#32
  | 26 => 0xBE0302DB#32
  | 27 => 0x3EC59C7E#32
  | 28 => 0xBDE9D82B#32
  | 29 => 0x40853989#32
  | 30 => 0xBE88296B#32
  | 31 => 0x3F8B51A3#32
  | 32 => 0x3F3391A0#32
  | 33 => 0xBF95DD21#32
  | 34 => 0x3F782B17#32
  | 35 => 0x40339EA7#32
  | 36 => 0x3E222DCB#32
  | 37 => 0xBEEFBB30#32
  | 38 => 0x3FAB82E1#32
  | 39 => 0xBE8B0066#32
  | 40 => 0x3F2FBD0A#32
  | 41 => 0xBF228259#32
  | 42 => 0x3E935373#32
  | 43 => 0x3FB08913#32
  | 44 => 0xBF80EE8D#32
  | 45 => 0x3F24CDDE#32
  | 46 => 0xBF8715CB#32
  | 47 => 0x3F05DA25#32
  | 48 => 0x4021B9A5#32
  | 49 => 0x3F5F2E11#32
  | 50 => 0x404D1342#32
  | 51 => 0xBF214407#32
  | 52 => 0x3F98ABA9#32
  | 53 => 0x3EC3DDB8#32
  | 54 => 0xBEE3802A#32
  | 55 => 0x3FB7B4C0#32
  | 56 => 0xBF258C9E#32
  | 57 => 0x3D705AA3#32
  | 58 => 0xBE13C292#32
  | 59 => 0x3FBF96EF#32
  | 60 => 0x3FD94CE8#32
  | 61 => 0x3E765C4C#32
  | 62 => 0xBF25BAC6#32
  | 63 => 0x3DA8C20F#32
  | 64 => 0x401FB989#32
  | 65 => 0xBE8312B2#32
  | 66 => 0xBF6D9E8D#32
  | 67 => 0x3E3280B3#32
  | 68 => 0x3FB323F2#32
  | 69 => 0xBECF11FA#32
  | 70 => 0xBF562634#32
  | 71 => 0xBF237B95#32
  | 72 => 0x3CE37B82#32
  | 73 => 0x3F93BD40#32
  | 74 => 0x3B2FCE50#32
  | 75 => 0x401221E9#32
  | 76 => 0xBF3B49DF#32
  | 77 => 0xBF2BEE74#32
  | 78 => 0x3F41EE75#32
  | 79 => 0xBF65CBBA#32
  | 80 => 0x3F03DE1B#32
  | 81 => 0x3F116254#32
  | 82 => 0xBF1FD127#32
  | 83 => 0xBF3F5A0D#32
  | 84 => 0x3FCA9796#32
  | 85 => 0x3FEEDCBC#32
  | 86 => 0x3F231BC9#32
  | 87 => 0x3F418717#32
  | 88 => 0x40035B09#32
  | 89 => 0x3F8AEC40#32
  | 90 => 0xBF96F06C#32
  | 91 => 0x3F1C096A#32
  | 92 => 0x3E989E18#32
  | 93 => 0xBF53B5F4#32
  | 94 => 0x400F0A38#32
  | 95 => 0xBE9F6262#32
  | 96 => 0x3FE5F0DC#32
  | 97 => 0xBE4CD559#32
  | 98 => 0xBF0F08B2#32
  | 99 => 0xBF3C02CF#32
  | 100 => 0x3D28A1C4#32
  | 101 => 0xBE673EFA#32
  | 102 => 0xBF36DDAF#32
  | 103 => 0x3FA73498#32
  | 104 => 0xBF579B08#32
  | 105 => 0x3ED33B64#32
  | 106 => 0xBF48FD59#32
  | 107 => 0xBF004838#32
  | 108 => 0x40519059#32
  | 109 => 0x3EE1D613#32
  | 110 => 0x3FD68F95#32
  | 111 => 0x3FD17843#32
  | 112 => 0x3F59069A#32
  | 113 => 0x3F878A2B#32
  | 114 => 0x3FCD692A#32
  | 115 => 0x3FA36806#32
  | 116 => 0x4021E278#32
  | 117 => 0xBF95BD9C#32
  | 118 => 0xBFA96C2F#32
  | 119 => 0x3FCF582F#32
  | 120 => 0x400273ED#32
  | 121 => 0xBF99E669#32
  | 122 => 0xBF3075BA#32
  | 123 => 0x3F670F7D#32
  | 124 => 0xBE8BB0C2#32
  | 125 => 0x3F80C71D#32
  | 126 => 0x3DE1D26C#32
  | 127 => 0xBF80DAC2#32
  | _ => 0#32

noncomputable abbrev lit0t0_289 (i : Nat) : BitVec 32 := match i % 128 with
  | 0 => 0xBD84FA22#32
  | 1 => 0x3FE0D7EA#32
  | 2 => 0x3EC3D5E3#32
  | 3 => 0xBF5A51C0#32
  | 4 => 0xBEA7C5B1#32
  | 5 => 0x3EA34A0C#32
  | 6 => 0xBF2D4CCE#32
  | 7 => 0x401FEE0C#32
  | 8 => 0x3E25C11D#32
  | 9 => 0x400776BF#32
  | 10 => 0x40491F16#32
  | 11 => 0x3F0F877D#32
  | 12 => 0xBEC24FFA#32
  | 13 => 0x3FEF1A77#32
  | 14 => 0x3E0D1C18#32
  | 15 => 0xBF59C0C0#32
  | 16 => 0x3EADF747#32
  | 17 => 0x3FAC020E#32
  | 18 => 0x408AD7D8#32
  | 19 => 0x3F324E06#32
  | 20 => 0x3EE7EE84#32
  | 21 => 0x4016B838#32
  | 22 => 0xBEDDE7E5#32
  | 23 => 0x3EBC2E2F#32
  | 24 => 0x404548AF#32
  | 25 => 0x4002347D#32
  | 26 => 0xBEDBB87D#32
  | 27 => 0x3E92D227#32
  | 28 => 0x3F028314#32
  | 29 => 0x3FBBE62F#32
  | 30 => 0x3F33EDF5#32
  | 31 => 0xBE126500#32
  | 32 => 0x3DEB27E2#32
  | 33 => 0x3FF27A98#32
  | 34 => 0x3F2CB669#32
  | 35 => 0x3F7820A4#32
  | 36 => 0x3EB8FE23#32
  | 37 => 0xBF8D7D70#32
  | 38 => 0x3E9254F1#32
  | 39 => 0xBE801A49#32
  | 40 => 0xBF965A6C#32
  | 41 => 0xBFA95436#32
  | 42 => 0x40222FFE#32
  | 43 => 0x4018383D#32
  | 44 => 0x3FB72C9F#32
  | 45 => 0x3FA88D9C#32
  | 46 => 0x3E7091DA#32
  | 47 => 0x3FCF944C#32
  | 48 => 0x3EAEBFD6#32
  | 49 => 0x3F8688D4#32
  | 50 => 0xBE988DF4#32
  | 51 => 0x3F1E5E94#32
  | 52 => 0x3F13C9C2#32
  | 53 => 0x3F524509#32
  | 54 => 0x3FD2531D#32
  | 55 => 0x3E604189#32
  | 56 => 0x3FD8AA3F#32
  | 57 => 0x3E807909#32
  | 58 => 0x3FFD1A20#32
  | 59 => 0xBF613723#32
  | 60 => 0xBE6E1AC6#32
  | 61 => 0x3FCC7D7B#32
  | 62 => 0xBEB93D20#32
  | 63 => 0x3ECFF492#32
  | 64 => 0x403231D2#32
  | 65 => 0xBE9BFE44#32
  | 66 => 0xBF8B59B3#32
  | 67 => 0x402739C5#32
  | 68 => 0xBF60235D#32
  | 69 => 0x3D43B44B#32
  | 70 => 0x3F1B3EF2#32
  | 71 => 0x3FC850FD#32
  | 72 => 0xBE1AEABA#32
  | 73 => 0x3F0C6374#32
  | 74 => 0x3F5A9200#32
  | 75 => 0x3FD35821#32
  | 76 => 0xBE24399D#32
  | 77 => 0xBF84F44E#32
  | 78 => 0xBDC86F1F#32
  | 79 => 0xBF970CB2#32
  | 80 => 0x3E3A09BD#32
  | 81 => 0x3E0B12CC#32
  | 82 => 0x3EB42C33#32
  | 83 => 0xBF66CEC2#32
  | 84 => 0xBE9C7442#32
  | 85 => 0x3FDA635A#32
  | 86 => 0x3F83350D#32
  | 87 => 0xBF98E58A#32
  | 88 => 0xBEA7E261#32
  | 89 => 0x40616ACF#32
  | 90 => 0x3FB16736#32
  | 91 => 0xBE342AE4#32
  | 92 => 0xBF4053A9#32
  | 93 => 0x3EDBA858#32
  | 94 => 0x40032B43#32
  | 95 => 0x3FC5D279#32
  | 96 => 0x3FE346BA#32
  | 97 => 0x3E0E9910#32
  | 98 => 0xBF321BF8#32
  | 99 => 0x3F78F248#32
  | 100 => 0xBED35B20#32
  | 101 => 0xBE8B9DF4#32
  | 102 => 0xBF78BFCE#32
  | 103 => 0x3EAC0034#32
  | 104 => 0x3E224F3E#32
  | 105 => 0x4051DA62#32
  | 106 => 0x40BE5D5B#32
  | 107 => 0x3D3125AC#32
  | 108 => 0x3F832BA8#32
  | 109 => 0x3EAD1D6D#32
  | 110 => 0x3F9160F6#32
  | 111 => 0x405C65FC#32
  | 112 => 0x3FEE73A9#32
  | 113 => 0x3FB34BF2#32
  | 114 => 0x3F81F9C6#32
  | 115 => 0xBFC91FC8#32
  | 116 => 0xBF267A9C#32
  | 117 => 0x3EA3686A#32
  | 118 => 0x40393F8B#32
  | 119 => 0x3DE52222#32
  | 120 => 0x40358B9E#32
  | 121 => 0xBF7E445C#32
  | 122 => 0x3EE06010#32
  | 123 => 0x3F33D183#32
  | 124 => 0x404D5617#32
  | 125 => 0x3F3EF9B3#32
  | 126 => 0x3F64E552#32
  | 127 => 0xBEB7B151#32
  | _ => 0#32

noncomputable abbrev lit0t0_290 (i : Nat) : BitVec 32 := match i % 128 with
  | 0 => 0xBFC0FBCC#32
  | 1 => 0xBF1566DA#32
  | 2 => 0x400D4639#32
  | 3 => 0xBF557510#32
  | 4 => 0x404EFC75#32
  | 5 => 0xBF992ADE#32
  | 6 => 0x3DBEF808#32
  | 7 => 0x3D862484#32
  | 8 => 0xBF285782#32
  | 9 => 0x3E798CF5#32
  | 10 => 0xBF8B6787#32
  | 11 => 0x402FC174#32
  | 12 => 0x3F8E93F1#32
  | 13 => 0x3FB98D11#32
  | 14 => 0x3EE87D97#32
  | 15 => 0x3EF1ECCD#32
  | 16 => 0xBEAF8F8E#32
  | 17 => 0x3EABABFE#32
  | 18 => 0xBEAA8778#32
  | 19 => 0x3F31ED38#32
  | 20 => 0x3F49EB06#32
  | 21 => 0x3DEDA762#32
  | 22 => 0x3FBF9B5E#32
  | 23 => 0x3E53D412#32
  | 24 => 0x3F66F11F#32
  | 25 => 0xBEE3905D#32
  | 26 => 0xBE374061#32
  | 27 => 0xBF171901#32
  | 28 => 0xBF86688B#32
  | 29 => 0xBF706C76#32
  | 30 => 0x3EFFC34B#32
  | 31 => 0x3DB1A861#32
  | 32 => 0x3F1E992D#32
  | 33 => 0xBE32EC30#32
  | 34 => 0x3F135C7A#32
  | 35 => 0x3FA878DD#32
  | 36 => 0x401AD397#32
  | 37 => 0x3FB6FFE2#32
  | 38 => 0xBF159B21#32
  | 39 => 0x3FB089FE#32
  | 40 => 0x3ECE581A#32
  | 41 => 0x3E2E34A1#32
  | 42 => 0x40006605#32
  | 43 => 0x40A7694E#32
  | 44 => 0x400AD39D#32
  | 45 => 0x40288AD8#32
  | 46 => 0xBF343373#32
  | 47 => 0x3E8F2377#32
  | 48 => 0x3FA11269#32
  | 49 => 0x3F7BEAC4#32
  | 50 => 0x40D48CD6#32
  | 51 => 0x3FDE8E9C#32
  | 52 => 0xBF7477D7#32
  | 53 => 0x3ECE9EC4#32
  | 54 => 0x3EE505EC#32
  | 55 => 0xBEC1B670#32
  | 56 => 0x3FA626B5#32
  | 57 => 0x3FA632B0#32
  | 58 => 0x3F7EA4BE#32
  | 59 => 0x3D6B09EC#32
  | 60 => 0x3ECA6E92#32
  | 61 => 0x3FF4ECE7#32
  | 62 => 0xBECD3338#32
  | 63 => 0x3F93C37B#32
  | 64 => 0x3E0CBD06#32
  | 65 => 0x3FC86E8A#32
  | 66 => 0x3F2AF5C4#32
  | 67 => 0x3C33AB06#32
  | 68 => 0xBDFEB474#32
  | 69 => 0xBF4B78B7#32
  | 70 => 0xBF70D69B#32
  | 71 => 0x3FA2FD94#32
  | 72 => 0x3F0BA08D#32
  | 73 => 0x3F8F10AA#32
  | 74 => 0x3EFAFDE4#32
  | 75 => 0x3EC53843#32
  | 76 => 0xBF6AC5F2#32
  | 77 => 0x4005F445#32
  | 78 => 0x4007DEC1#32
  | 79 => 0x3E3CE6E9#32
  | 80 => 0x3DD2C30B#32
  | 81 => 0xBF6910E3#32
  | 82 => 0xBE0A864A#32
  | 83 => 0xBF976FFC#32
  | 84 => 0x3FE0E9A4#32
  | 85 => 0x3D193682#32
  | 86 => 0xBF04F1A4#32
  | 87 => 0x3EB16134#32
  | 88 => 0x3E9CA52F#32
  | 89 => 0xBDBDEC05#32
  | 90 => 0x3F91DC9F#32
  | 91 => 0x3D1E1158#32
  | 92 => 0xBF366138#32
  | 93 => 0x3FD71789#32
  | 94 => 0xBE44517D#32
  | 95 => 0xBF850675#32
  | 96 => 0x3D8674B2#32
  | 97 => 0x4045E1EA#32
  | 98 => 0xBF42212C#32
  | 99 => 0xBED38618#32
  | 100 => 0x3E2F9568#32
  | 101 => 0x3FFDCEE7#32
  | 102 => 0x3F319550#32
  | 103 => 0x3FFEDD14#32
  | 104 => 0xBF31D3C5#32
  | 105 => 0xBD619EDE#32
  | 106 => 0xBE9EBDEA#32
  | 107 => 0x40021446#32
  | 108 => 0xBF177AF4#32
  | 109 => 0x3EB6DF38#32
  | 110 => 0xBE4CBC04#32
  | 111 => 0xBEE21FAF#32
  | 112 => 0x3F7A256E#32
  | 113 => 0x400B5B77#32
  | 114 => 0x3EA7855E#32
  | 115 => 0xBFA9C0AC#32
  | 116 => 0x4025A988#32
  | 117 => 0x3FFFE0CE#32
  | 118 => 0xBE906ABE#32
  | 119 => 0xBC5C93AD#32
  | 120 => 0xBED1806C#32
  | 121 => 0xBEDA7C92#32
  | 122 => 0x402C3F9C#32
  | 123 => 0x3E0EE4C1#32
  | 124 => 0xBF064212#32
  | 125 => 0x3E409AFB#32
  | 126 => 0x3F987252#32
  | 127 => 0x40A73AF7#32
  | _ => 0#32

noncomputable abbrev lit0t0_291 (i : Nat) : BitVec 32 := match i % 128 with
  | 0 => 0x3F9FDF8B#32
  | 1 => 0xBDEF4C80#32
  | 2 => 0x3D4182BC#32
  | 3 => 0x3F594D3E#32
  | 4 => 0xBB4053AF#32
  | 5 => 0x3DF7B8AB#32
  | 6 => 0xBF4FC2F8#32
  | 7 => 0xBF873E90#32
  | 8 => 0xBEB7CBAC#32
  | 9 => 0x3CB17CAE#32
  | 10 => 0xBEE766A0#32
  | 11 => 0x400A7C50#32
  | 12 => 0x3D8A50BA#32
  | 13 => 0xBEEADD0E#32
  | 14 => 0x3FCE202C#32
  | 15 => 0x3FA525B7#32
  | 16 => 0x3FA12EBC#32
  | 17 => 0xBF408B87#32
  | 18 => 0xBF306116#32
  | 19 => 0x40708E1E#32
  | 20 => 0xBF6A66DF#32
  | 21 => 0x3FB08EA0#32
  | 22 => 0x3EAC24D7#32
  | 23 => 0xBDE91D69#32
  | 24 => 0x3FF7F175#32
  | 25 => 0x3F7B2F0C#32
  | 26 => 0xBF5C602A#32
  | 27 => 0xBF7A62E2#32
  | 28 => 0x3F92BAEA#32
  | 29 => 0xBF3F033E#32
  | 30 => 0xBEC501BA#32
  | 31 => 0x40559CD1#32
  | 32 => 0x40534898#32
  | 33 => 0x3EE06B5F#32
  | 34 => 0xBF362D86#32
  | 35 => 0x3F3F6843#32
  | 36 => 0xBF7FBC74#32
  | 37 => 0x3FC7F075#32
  | 38 => 0xBE675FA3#32
  | 39 => 0x4085B0FB#32
  | 40 => 0xBE06CA72#32
  | 41 => 0x3FE73F9D#32
  | 42 => 0x3F0B445D#32
  | 43 => 0x40348704#32
  | 44 => 0xBF5E535B#32
  | 45 => 0xBE0F8D0E#32
  | 46 => 0x40238E68#32
  | 47 => 0x3EB5FE72#32
  | 48 => 0x3E182A70#32
  | 49 => 0xBE1C173A#32
  | 50 => 0xBE4758DD#32
  | 51 => 0x3FF8B083#32
  | 52 => 0x3F3DECCC#32
  | 53 => 0xBFBA55B2#32
  | 54 => 0x3DE0E9AB#32
  | 55 => 0x3C9CF108#32
  | 56 => 0x4000BF86#32
  | 57 => 0xBDD2D123#32
  | 58 => 0x3F4E5586#32
  | 59 => 0xBE1229D6#32
  | 60 => 0xBF71E53B#32
  | 61 => 0xBE3E1A80#32
  | 62 => 0x3F419A2B#32
  | 63 => 0x3EA77ECF#32
  | 64 => 0x3FD06073#32
  | 65 => 0x3F87315D#32
  | 66 => 0xBF724A29#32
  | 67 => 0x3EC933C2#32
  | 68 => 0x3E7322AA#32
  | 69 => 0x3FF0A6E8#32
  | 70 => 0xBFD8FD9A#32
  | 71 => 0x3E9B7F87#32
  | 72 => 0xBE9B2D17#32
  | 73 => 0xBFEF87F3#32
  | 74 => 0x3F4E7559#32
  | 75 => 0x3E0589E9#32
  | 76 => 0x3F3976A0#32
  | 77 => 0xBEC977EC#32
  | 78 => 0x40180A3A#32
  | 79 => 0x3F0686A7#32
  | 80 => 0xBE57F364#32
  | 81 => 0x3FC6FDE2#32
  | 82 => 0x3D8051EF#32
  | 83 => 0x3EB34BDC#32
  | 84 => 0x3F44224E#32
  | 85 => 0xBD9AF12F#32
  | 86 => 0xBE82AFE2#32
  | 87 => 0x4071BD65#32
  | 88 => 0xBF050E06#32
  | 89 => 0x3F43D00A#32
  | 90 => 0x3E5209E2#32
  | 91 => 0x4056D8E2#32
  | 92 => 0x3EAD6F60#32
  | 93 => 0x3E1A9237#32
  | 94 => 0x3E9F856F#32
  | 95 => 0x3F38620D#32
  | 96 => 0x3FB36A19#32
  | 97 => 0x3E2BB94C#32
  | 98 => 0xBEF7D3A0#32
  | 99 => 0x3E0C794E#32
  | 100 => 0xBF657A2C#32
  | 101 => 0x3E30B652#32
  | 102 => 0xBF6F011E#32
  | 103 => 0x3E8729B2#32
  | 104 => 0x400BC7F9#32
  | 105 => 0x3F4EE540#32
  | 106 => 0xBF591524#32
  | 107 => 0xBE3D1238#32
  | 108 => 0x4006DC23#32
  | 109 => 0x3ADAC2B5#32
  | 110 => 0xBFD1C30E#32
  | 111 => 0xBF8972CB#32
  | 112 => 0x3FF5927A#32
  | 113 => 0x3F88D317#32
  | 114 => 0xBDA260C8#32
  | 115 => 0xBEE92997#32
  | 116 => 0x3FED3400#32
  | 117 => 0xBF526FED#32
  | 118 => 0x3E057DEA#32
  | 119 => 0xBF0191F2#32
  | 120 => 0xBF4E607D#32
  | 121 => 0x3F4487E0#32
  | 122 => 0xBF42EB9B#32
  | 123 => 0x3FC1D661#32
  | 124 => 0xBF417796#32
  | 125 => 0x3F3A4584#32
  | 126 => 0xBEEA2CBE#32
  | 127 => 0x3F08670D#32
  | _ => 0#32

noncomputable abbrev lit0t0_292 (i : Nat) : BitVec 32 := match i % 128 with
  | 0 => 0xBD742938#32
  | 1 => 0x3FFEB4B2#32
  | 2 => 0xBC91A39C#32
  | 3 => 0x3E6D46AA#32
  | 4 => 0xBF37D603#32
  | 5 => 0xBFA22892#32
  | 6 => 0x3F9A2FEF#32
  | 7 => 0x3F538256#32
  | 8 => 0x3F8FF3A4#32
  | 9 => 0x3FFA1D91#32
  | 10 => 0xBF75E2ED#32
  | 11 => 0xBF95BFAD#32
  | 12 => 0x3EF83230#32
  | 13 => 0x4001F986#32
  | 14 => 0x3FD71900#32
  | 15 => 0x3FA5554F#32
  | 16 => 0x3F911160#32
  | 17 => 0x3EF52703#32
  | 18 => 0x3F071B7C#32
  | 19 => 0xBEF0D164#32
  | 20 => 0x401B7FD0#32
  | 21 => 0xBDF1C98C#32
  | 22 => 0xBF673D45#32
  | 23 => 0xBF8D22CF#32
  | 24 => 0xBF36C7AE#32
  | 25 => 0x3B883FEA#32
  | 26 => 0x4002EE87#32
  | 27 => 0xBF7621E6#32
  | 28 => 0xBE2EFE58#32
  | 29 => 0xBD6D3240#32
  | 30 => 0xBE9BC9D2#32
  | 31 => 0x3F64A93C#32
  | 32 => 0x3EB0A19F#32
  | 33 => 0x408651A4#32
  | 34 => 0x3F674A66#32
  | 35 => 0xBE8C657C#32
  | 36 => 0xBEFD3B7F#32
  | 37 => 0x3F5EDF00#32
  | 38 => 0x3FAA236F#32
  | 39 => 0xBE98FBDB#32
  | 40 => 0xBF54EB89#32
  | 41 => 0xBF5AFF7F#32
  | 42 => 0xBCE91EBF#32
  | 43 => 0x4089C261#32
  | 44 => 0xBF8DF476#32
  | 45 => 0xBEB59B81#32
  | 46 => 0x3F6CC89C#32
  | 47 => 0xBF1A1009#32
  | 48 => 0x3F86E1A4#32
  | 49 => 0x3FA272C7#32
  | 50 => 0x3D48C671#32
  | 51 => 0x3EAA07CD#32
  | 52 => 0x3EDAE5C9#32
  | 53 => 0xBDA6CC91#32
  | 54 => 0x3F5D79E0#32
  | 55 => 0x40308492#32
  | 56 => 0x3EB6C2AB#32
  | 57 => 0x402006A1#32
  | 58 => 0x3E2157C0#32
  | 59 => 0x3FB330DB#32
  | 60 => 0xBF200AF7#32
  | 61 => 0x3FA3B32B#32
  | 62 => 0x3ED6B2E5#32
  | 63 => 0x3F02504B#32
  | 64 => 0x3F64637A#32
  | 65 => 0x3ECACC39#32
  | 66 => 0xBD894D6A#32
  | 67 => 0x401CC837#32
  | 68 => 0xBF26883E#32
  | 69 => 0x3F95AD0F#32
  | 70 => 0x3FBDFDA7#32
  | 71 => 0x402102F0#32
  | 72 => 0x3F363A50#32
  | 73 => 0x3FD3FB12#32
  | 74 => 0x3FA3F47D#32
  | 75 => 0x3F874322#32
  | 76 => 0xBDF2F09A#32
  | 77 => 0x3E1BBC7B#32
  | 78 => 0x3F436B79#32
  | 79 => 0x4072371D#32
  | 80 => 0xBE43F0CE#32
  | 81 => 0x3F92EB0B#32
  | 82 => 0x3DA6EE7B#32
  | 83 => 0x3FF1EDBC#32
  | 84 => 0xBF523FA4#32
  | 85 => 0x402FA0CE#32
  | 86 => 0xBF6C7674#32
  | 87 => 0x3FC0AE7A#32
  | 88 => 0x3F05CA81#32
  | 89 => 0x3EBF21E4#32
  | 90 => 0xBEEC1EF8#32
  | 91 => 0x3D930F15#32
  | 92 => 0xBF557193#32
  | 93 => 0x3FA3E10F#32
  | 94 => 0x3FE7598D#32
  | 95 => 0x3EADE29F#32
  | 96 => 0xBDBBB657#32
  | 97 => 0x3F534A23#32
  | 98 => 0x3EB06459#32
  | 99 => 0xBF99EE43#32
  | 100 => 0xBF5D2DE4#32
  | 101 => 0x3D998B37#32
  | 102 => 0x3EE892FC#32
  | 103 => 0x3E1E46D6#32
  | 104 => 0x400FE8D0#32
  | 105 => 0xBE7F7246#32
  | 106 => 0x3E556624#32
  | 107 => 0x3EE9033E#32
  | 108 => 0x406A530D#32
  | 109 => 0x409060F3#32
  | 110 => 0x3F960953#32
  | 111 => 0x3F37EB7C#32
  | 112 => 0xBEB204E9#32
  | 113 => 0x4018AD74#32
  | 114 => 0xBEA250BF#32
  | 115 => 0x3F6C2260#32
  | 116 => 0xBEA8360E#32
  | 117 => 0x3E3B2376#32
  | 118 => 0x3F5558D1#32
  | 119 => 0x3F9A100C#32
  | 120 => 0xBF899BDF#32
  | 121 => 0x3E639E1E#32
  | 122 => 0x3F72CF5E#32
  | 123 => 0xBD9FD06F#32
  | 124 => 0x3F8F0F53#32
  | 125 => 0x3EBE1632#32
  | 126 => 0xBF3D0F37#32
  | 127 => 0x3EF945F3#32
  | _ => 0#32

noncomputable abbrev lit0t0_293 (i : Nat) : BitVec 32 := match i % 128 with
  | 0 => 0x3F6AFE79#32
  | 1 => 0xBFAADA68#32
  | 2 => 0x3E83F03C#32
  | 3 => 0x3F4EAABF#32
  | 4 => 0x3F0037B2#32
  | 5 => 0x3FE6C8F5#32
  | 6 => 0x408725B0#32
  | 7 => 0x3F1D7F64#32
  | 8 => 0xBED5E5BA#32
  | 9 => 0x3E44CAC9#32
  | 10 => 0xBFB4EB89#32
  | 11 => 0x4073DE70#32
  | 12 => 0x3F71E718#32
  | 13 => 0xBE43E001#32
  | 14 => 0x3DC6B892#32
  | 15 => 0xBE38D3B0#32
  | 16 => 0x3FEEAD49#32
  | 17 => 0xBF9E0938#32
  | 18 => 0x3C885AC7#32
  | 19 => 0xBE8635FA#32
  | 20 => 0x3E82EF56#32
  | 21 => 0x3E9756EB#32
  | 22 => 0x3EAD909B#32
  | 23 => 0x3F12410D#32
  | 24 => 0x4028C76E#32
  | 25 => 0x3EC96FC7#32
  | 26 => 0xBF32FD1F#32
  | 27 => 0x3F7F5D2B#32
  | 28 => 0x3F866A78#32
  | 29 => 0x3E89831E#32
  | 30 => 0x3FF0CFFF#32
  | 31 => 0x3FB6F5BF#32
  | 32 => 0x3F4677A6#32
  | 33 => 0x3DC49288#32
  | 34 => 0x3F760BB2#32
  | 35 => 0x3FD36381#32
  | 36 => 0x3F7DB55A#32
  | 37 => 0xBF898E45#32
  | 38 => 0xBD70541F#32
  | 39 => 0xBECCCE4D#32
  | 40 => 0x3FDDDC49#32
  | 41 => 0x3FB88899#32
  | 42 => 0x3FA04516#32
  | 43 => 0xBF341789#32
  | 44 => 0x3EF03C72#32
  | 45 => 0xBF5D20D5#32
  | 46 => 0x3E46300B#32
  | 47 => 0x4044D22E#32
  | 48 => 0x3FC437AE#32
  | 49 => 0xBE77A263#32
  | 50 => 0xBEC2970A#32
  | 51 => 0x3DC9A55C#32
  | 52 => 0xBD5D7672#32
  | 53 => 0x3EAE2BFA#32
  | 54 => 0xBF581C63#32
  | 55 => 0x408FBBC7#32
  | 56 => 0x3F878831#32
  | 57 => 0x3F542772#32
  | 58 => 0x3FB689D0#32
  | 59 => 0x3EE10A22#32
  | 60 => 0x3FA94220#32
  | 61 => 0xBFA17F60#32
  | 62 => 0xBFEB951E#32
  | 63 => 0xBE9FC135#32
  | 64 => 0x3ADBC724#32
  | 65 => 0x3FC717A7#32
  | 66 => 0x4024B1E4#32
  | 67 => 0x400E0856#32
  | 68 => 0xBEA4746D#32
  | 69 => 0xBF5ECEAC#32
  | 70 => 0x3F40018F#32
  | 71 => 0xBE771F0E#32
  | 72 => 0x3FE801D5#32
  | 73 => 0x3FA584FD#32
  | 74 => 0x403D3C53#32
  | 75 => 0xBF083716#32
  | 76 => 0xBD996DBA#32
  | 77 => 0x3F122F70#32
  | 78 => 0xBF304764#32
  | 79 => 0x4058A9F3#32
  | 80 => 0x4002856D#32
  | 81 => 0x3F43BD8A#32
  | 82 => 0xBE534F3E#32
  | 83 => 0xBF4EB136#32
  | 84 => 0xBFA296F6#32
  | 85 => 0xBF2F2389#32
  | 86 => 0x3F98C758#32
  | 87 => 0x3F06F4AC#32
  | 88 => 0xBE23F295#32
  | 89 => 0x3E77B33A#32
  | 90 => 0x3FC8E3CA#32
  | 91 => 0xBE897835#32
  | 92 => 0x3F809C1F#32
  | 93 => 0xBE9E8414#32
  | 94 => 0xBE9DDAD4#32
  | 95 => 0xBE8E1ECE#32
  | 96 => 0x3FB49341#32
  | 97 => 0x3F3796A8#32
  | 98 => 0xBF6CBE14#32
  | 99 => 0x3D88BDE0#32
  | 100 => 0x3EA30BCB#32
  | 101 => 0x3F1EE114#32
  | 102 => 0xBF1457FE#32
  | 103 => 0x3ECECF5C#32
  | 104 => 0xBF4A4FDD#32
  | 105 => 0x3F07331D#32
  | 106 => 0x3F3ACF42#32
  | 107 => 0x3F76F712#32
  | 108 => 0x3E9A75E1#32
  | 109 => 0x3F7E3D32#32
  | 110 => 0xBE0F6097#32
  | 111 => 0x3F8F52D6#32
  | 112 => 0x3F15C221#32
  | 113 => 0xBE27FC88#32
  | 114 => 0x3EA63C70#32
  | 115 => 0xBFA57E3D#32
  | 116 => 0x3FEE11C4#32
  | 117 => 0x3DE210D0#32
  | 118 => 0x3FACA73D#32
  | 119 => 0xBF94AC2C#32
  | 120 => 0x3F5E5628#32
  | 121 => 0x3D69E49B#32
  | 122 => 0x3F9E2308#32
  | 123 => 0x40592FE0#32
  | 124 => 0xBF95A531#32
  | 125 => 0xBF0927E1#32
  | 126 => 0x3C88F7C0#32
  | 127 => 0xBFA79485#32
  | _ => 0#32

noncomputable abbrev lit0t0_294 (i : Nat) : BitVec 32 := match i % 128 with
  | 0 => 0xBF2B5EA4#32
  | 1 => 0x3E96DD7F#32
  | 2 => 0x3F798C16#32
  | 3 => 0x4020E629#32
  | 4 => 0xBF60A252#32
  | 5 => 0x3D430D43#32
  | 6 => 0xBF096EFA#32
  | 7 => 0x3F00C276#32
  | 8 => 0xBF2F3236#32
  | 9 => 0xBF9C8530#32
  | 10 => 0xBE625924#32
  | 11 => 0x3E71ECD3#32
  | 12 => 0x3F016557#32
  | 13 => 0x4028FDC7#32
  | 14 => 0x3F72C7F2#32
  | 15 => 0xBC13EA8D#32
  | 16 => 0x409DCF10#32
  | 17 => 0x4001EC87#32
  | 18 => 0xBF1473CE#32
  | 19 => 0x3E4190F9#32
  | 20 => 0x3ED9B5EC#32
  | 21 => 0x3F9721E6#32
  | 22 => 0xBF81D696#32
  | 23 => 0x3F4DF05A#32
  | 24 => 0x3F353F73#32
  | 25 => 0x3EADD93A#32
  | 26 => 0xBED68755#32
  | 27 => 0xBEB33F27#32
  | 28 => 0x3E808D69#32
  | 29 => 0x3F7E4206#32
  | 30 => 0x3FA7B22E#32
  | 31 => 0x3FD4FF15#32
  | 32 => 0x3FC0451D#32
  | 33 => 0xBF21DD55#32
  | 34 => 0x3F3C45D6#32
  | 35 => 0x403B4A9B#32
  | 36 => 0x3F9AFAA4#32
  | 37 => 0xBF158106#32
  | 38 => 0x400D191A#32
  | 39 => 0x3F9728CC#32
  | 40 => 0x3FF2FD8C#32
  | 41 => 0x3F9990C6#32
  | 42 => 0xBEC5CCC0#32
  | 43 => 0xBFA44BC0#32
  | 44 => 0x403E4881#32
  | 45 => 0xBF994ED3#32
  | 46 => 0x3F12A9B2#32
  | 47 => 0xBF5992AE#32
  | 48 => 0xBDCA5B60#32
  | 49 => 0x3FB831E2#32
  | 50 => 0x3747004D#32
  | 51 => 0x3F8C4DFA#32
  | 52 => 0xBEE99C5E#32
  | 53 => 0x3E227B55#32
  | 54 => 0xBF97A97E#32
  | 55 => 0x3F742D04#32
  | 56 => 0x3FF52E96#32
  | 57 => 0xBE46E155#32
  | 58 => 0xBDC4400A#32
  | 59 => 0x3F2AA629#32
  | 60 => 0x404C66BC#32
  | 61 => 0x3E8C9440#32
  | 62 => 0x3F7B4D80#32
  | 63 => 0xBEB22806#32
  | 64 => 0x400C621E#32
  | 65 => 0x3FBCFECE#32
  | 66 => 0xBF040760#32
  | 67 => 0x406BAEAB#32
  | 68 => 0x3FA8306C#32
  | 69 => 0x3F6D057E#32
  | 70 => 0x3F45E076#32
  | 71 => 0xBF4852DD#32
  | 72 => 0xBF6EA8F2#32
  | 73 => 0x3FBF6C10#32
  | 74 => 0xBF4DD890#32
  | 75 => 0x401BD606#32
  | 76 => 0x3F8715D7#32
  | 77 => 0x3EFF7BBA#32
  | 78 => 0x3F4A5203#32
  | 79 => 0x3FF4F349#32
  | 80 => 0x3FA1AB5C#32
  | 81 => 0x407EE6B9#32
  | 82 => 0xBF91240B#32
  | 83 => 0x3E0B7A3B#32
  | 84 => 0x3F1F4056#32
  | 85 => 0xBF477CC3#32
  | 86 => 0x3FDCC5C1#32
  | 87 => 0x3ECC8342#32
  | 88 => 0x3F998E01#32
  | 89 => 0x3E68A2BB#32
  | 90 => 0xBF2BAB7B#32
  | 91 => 0x3FB1DEBD#32
  | 92 => 0x40690FE8#32
  | 93 => 0xBE8AA085#32
  | 94 => 0x3DB1A730#32
  | 95 => 0x4017C20A#32
  | 96 => 0x3F3A3D5C#32
  | 97 => 0x3F0F8A1A#32
  | 98 => 0x3E723919#32
  | 99 => 0x3FB05467#32
  | 100 => 0x402B0567#32
  | 101 => 0x402E3935#32
  | 102 => 0xBEAEE6B6#32
  | 103 => 0x3FCF0EC2#32
  | 104 => 0x3E3435BF#32
  | 105 => 0x400CAA81#32
  | 106 => 0xBECD22F7#32
  | 107 => 0xBEEAF270#32
  | 108 => 0x4049AEB7#32
  | 109 => 0x3F9003B8#32
  | 110 => 0x3EE6396C#32
  | 111 => 0x3F551B6C#32
  | 112 => 0x3F960DD9#32
  | 113 => 0x40258F52#32
  | 114 => 0x3F0F6A54#32
  | 115 => 0x3F8FD488#32
  | 116 => 0x3EDB4949#32
  | 117 => 0x3E85599C#32
  | 118 => 0x401DADA0#32
  | 119 => 0xBEB13B34#32
  | 120 => 0x4007BE2B#32
  | 121 => 0x3F9F4362#32
  | 122 => 0x3FA3E3FD#32
  | 123 => 0x3E093AD2#32
  | 124 => 0xBD497BD3#32
  | 125 => 0x3FC99D17#32
  | 126 => 0x3EF25101#32
  | 127 => 0xBFB18522#32
  | _ => 0#32

noncomputable abbrev lit0t0_295 (i : Nat) : BitVec 32 := match i % 128 with
  | 0 => 0x3FB3DB1C#32
  | 1 => 0xBF43B6B9#32
  | 2 => 0x404AB9AC#32
  | 3 => 0xBEA959C8#32
  | 4 => 0xBF52B934#32
  | 5 => 0xBE957BB6#32
  | 6 => 0xBEC5D19B#32
  | 7 => 0x400C2607#32
  | 8 => 0x408DA73A#32
  | 9 => 0x3F517594#32
  | 10 => 0xBEEBD937#32
  | 11 => 0x3FA4437A#32
  | 12 => 0x3F5C923B#32
  | 13 => 0xBE4B9511#32
  | 14 => 0xBF3A4603#32
  | 15 => 0x3E56AF99#32
  | 16 => 0x3F08A6FB#32
  | 17 => 0x40857381#32
  | 18 => 0x3FFA43F4#32
  | 19 => 0xBF7334DE#32
  | 20 => 0x3F5DC545#32
  | 21 => 0x3F966A24#32
  | 22 => 0xBD3DC6F0#32
  | 23 => 0xBDAC5776#32
  | 24 => 0x3FD81D02#32
  | 25 => 0x3F1C687C#32
  | 26 => 0x3F8DE8FF#32
  | 27 => 0x3E6170A2#32
  | 28 => 0xBED4CC71#32
  | 29 => 0xBF5583DC#32
  | 30 => 0x402245F9#32
  | 31 => 0x4003901D#32
  | 32 => 0x3F48D628#32
  | 33 => 0x3F886A3E#32
  | 34 => 0x400B2249#32
  | 35 => 0x3F85903A#32
  | 36 => 0x3EAD6483#32
  | 37 => 0xBDA74B3E#32
  | 38 => 0x3ECA6CC2#32
  | 39 => 0xBF2F6A67#32
  | 40 => 0xBF785620#32
  | 41 => 0xBFF2D943#32
  | 42 => 0x3F383B17#32
  | 43 => 0xBE29DEF2#32
  | 44 => 0x3F69B03E#32
  | 45 => 0x3F973576#32
  | 46 => 0x3D5AA511#32
  | 47 => 0x400E992F#32
  | 48 => 0x3FB3AD20#32
  | 49 => 0xBFAA5A4B#32
  | 50 => 0x3FFA4B25#32
  | 51 => 0x3FECD5FC#32
  | 52 => 0xBF3E0EB0#32
  | 53 => 0x40641D45#32
  | 54 => 0xBEC6DA65#32
  | 55 => 0xBF124DA3#32
  | 56 => 0x3FB211EB#32
  | 57 => 0x4085BA0B#32
  | 58 => 0x3FF7D5CA#32
  | 59 => 0x3F79BCB0#32
  | 60 => 0x3E93293F#32
  | 61 => 0x400CFB40#32
  | 62 => 0x4013C2AC#32
  | 63 => 0x3F4E027E#32
  | 64 => 0x3B533508#32
  | 65 => 0xBE49F62B#32
  | 66 => 0x3E065301#32
  | 67 => 0x3F2634A6#32
  | 68 => 0xBF36A222#32
  | 69 => 0x3F73B3EA#32
  | 70 => 0x3E7EC973#32
  | 71 => 0x3F1071AA#32
  | 72 => 0x3F399026#32
  | 73 => 0xBDB2C1BB#32
  | 74 => 0x3F7BB866#32
  | 75 => 0x3E9CC631#32
  | 76 => 0xBBF3E908#32
  | 77 => 0x3E56E891#32
  | 78 => 0x401C7F34#32
  | 79 => 0xBF85765B#32
  | 80 => 0x402A061F#32
  | 81 => 0x3F8EE40F#32
  | 82 => 0x3F4B7920#32
  | 83 => 0x3F9C8460#32
  | 84 => 0xBE48F532#32
  | 85 => 0xBE47A1B3#32
  | 86 => 0x401C676A#32
  | 87 => 0x40527B1A#32
  | 88 => 0x4029B8CC#32
  | 89 => 0xBD96B92D#32
  | 90 => 0xBF0EAEA1#32
  | 91 => 0x40190729#32
  | 92 => 0x3F26F402#32
  | 93 => 0x3F299D9C#32
  | 94 => 0x401BAD42#32
  | 95 => 0x3F244258#32
  | 96 => 0xBF9BD050#32
  | 97 => 0xBE373924#32
  | 98 => 0xBEC8325E#32
  | 99 => 0x3F36923D#32
  | 100 => 0x40260AAD#32
  | 101 => 0x3FE51FEC#32
  | 102 => 0x3F1747F6#32
  | 103 => 0x3FA09789#32
  | 104 => 0x3FABC635#32
  | 105 => 0x3E0CD4DA#32
  | 106 => 0x3FCCCA0C#32
  | 107 => 0x3EEA0804#32
  | 108 => 0xBF3562C1#32
  | 109 => 0xBE039EF6#32
  | 110 => 0x3FCB5758#32
  | 111 => 0x3FC6DA98#32
  | 112 => 0x3D61AFDF#32
  | 113 => 0x3D9EBF0B#32
  | 114 => 0x3FC5F563#32
  | 115 => 0xBFAEA064#32
  | 116 => 0x3F9AC306#32
  | 117 => 0x3E4C48D2#32
  | 118 => 0x3EEDA0DE#32
  | 119 => 0x3F895296#32
  | 120 => 0x3F92A90C#32
  | 121 => 0xBCE61D50#32
  | 122 => 0xBF05BDE8#32
  | 123 => 0x3F8748A3#32
  | 124 => 0xBEBEE516#32
  | 125 => 0x3E1DBFB2#32
  | 126 => 0xBEA44698#32
  | 127 => 0xBF16CD16#32
  | _ => 0#32

noncomputable abbrev lit0t0_296 (i : Nat) : BitVec 32 := match i % 128 with
  | 0 => 0x3F4EA3F5#32
  | 1 => 0xBF544A34#32
  | 2 => 0x3F1ABBEF#32
  | 3 => 0x3E9E432F#32
  | 4 => 0x3F0EDD43#32
  | 5 => 0x3F1E86C0#32
  | 6 => 0x3F104F64#32
  | 7 => 0xBF41117E#32
  | 8 => 0x3EAD836A#32
  | 9 => 0xBF59868C#32
  | 10 => 0xBE238674#32
  | 11 => 0xBE842895#32
  | 12 => 0x40251484#32
  | 13 => 0xBF891F08#32
  | 14 => 0x40110BF6#32
  | 15 => 0x3FFE0AF6#32
  | 16 => 0xBEB183AE#32
  | 17 => 0x407C8EE1#32
  | 18 => 0xBDA5BFEA#32
  | 19 => 0x3F96B4D5#32
  | 20 => 0x3F009589#32
  | 21 => 0x4020ADB5#32
  | 22 => 0x3F824A68#32
  | 23 => 0x3F99E53A#32
  | 24 => 0x3FE01F18#32
  | 25 => 0x3F200C78#32
  | 26 => 0xBF42CF13#32
  | 27 => 0x3F8E4D29#32
  | 28 => 0x3EBF790C#32
  | 29 => 0xBED7FF2A#32
  | 30 => 0x3FF01655#32
  | 31 => 0xBF02152E#32
  | 32 => 0xBF91FDE4#32
  | 33 => 0x3E92C084#32
  | 34 => 0x402B850A#32
  | 35 => 0x3FC05873#32
  | 36 => 0xBF738631#32
  | 37 => 0x3FB67A30#32
  | 38 => 0xBF9BE832#32
  | 39 => 0x4008B112#32
  | 40 => 0xBC3CED13#32
  | 41 => 0xBF96BBE1#32
  | 42 => 0x3F2A6A1E#32
  | 43 => 0xBED5E17F#32
  | 44 => 0xBD563085#32
  | 45 => 0x408D89AF#32
  | 46 => 0xBFA119CA#32
  | 47 => 0xBFD4EA2D#32
  | 48 => 0xBFAF155A#32
  | 49 => 0xBF79B460#32
  | 50 => 0x3F0AB144#32
  | 51 => 0x3F943A42#32
  | 52 => 0x404D1590#32
  | 53 => 0x3F9AD238#32
  | 54 => 0xBF72252B#32
  | 55 => 0xBF1B1440#32
  | 56 => 0x3FE90A58#32
  | 57 => 0x3F1550CE#32
  | 58 => 0x3F5E7632#32
  | 59 => 0x40079E1E#32
  | 60 => 0x3F2343C7#32
  | 61 => 0xBEA6875E#32
  | 62 => 0x406D3A00#32
  | 63 => 0x3E89452B#32
  | 64 => 0x40191025#32
  | 65 => 0xBF088A3F#32
  | 66 => 0x4034BDB5#32
  | 67 => 0x3F7C6FF4#32
  | 68 => 0x3EC29911#32
  | 69 => 0x3F0872B4#32
  | 70 => 0x406C7F95#32
  | 71 => 0xBF2DFB32#32
  | 72 => 0x3FC40C75#32
  | 73 => 0x3E8E1A28#32
  | 74 => 0x3F9D9044#32
  | 75 => 0xBF992A07#32
  | 76 => 0x3F265FB4#32
  | 77 => 0x3E029A73#32
  | 78 => 0x3EE15147#32
  | 79 => 0xBD849273#32
  | 80 => 0x3FAC5F25#32
  | 81 => 0x402000F8#32
  | 82 => 0xBEA32637#32
  | 83 => 0xBF35A7AA#32
  | 84 => 0xBF190D68#32
  | 85 => 0x3F1786A2#32
  | 86 => 0x3E231396#32
  | 87 => 0x3FABC3A5#32
  | 88 => 0x3FB9F837#32
  | 89 => 0x4003C681#32
  | 90 => 0x40316705#32
  | 91 => 0x3FBE36FB#32
  | 92 => 0x40832EE4#32
  | 93 => 0xBEA50CA0#32
  | 94 => 0x40178B6B#32
  | 95 => 0x3E479AEF#32
  | 96 => 0xBE036861#32
  | 97 => 0xBF8B9200#32
  | 98 => 0x3FDFA466#32
  | 99 => 0x3EB7331D#32
  | 100 => 0x3ED0C6FE#32
  | 101 => 0x3F79A700#32
  | 102 => 0xBE314384#32
  | 103 => 0xBF1E5777#32
  | 104 => 0xBF1F570A#32
  | 105 => 0x3F3D82F6#32
  | 106 => 0x403F602F#32
  | 107 => 0xBDC73574#32
  | 108 => 0xBFAE87B1#32
  | 109 => 0xBF4B217E#32
  | 110 => 0x3D2ED79B#32
  | 111 => 0xBF5A2BAE#32
  | 112 => 0xBDB6E7DF#32
  | 113 => 0x4030267A#32
  | 114 => 0x3FE0E146#32
  | 115 => 0x3FBC2D2E#32
  | 116 => 0x3EFB6786#32
  | 117 => 0x3EBB424B#32
  | 118 => 0xBF277B94#32
  | 119 => 0x3F16DAFA#32
  | 120 => 0xBB03F3F9#32
  | 121 => 0xBF64519E#32
  | 122 => 0xBE8B3390#32
  | 123 => 0x3FD63C42#32
  | 124 => 0x401600B0#32
  | 125 => 0x3F26A657#32
  | 126 => 0xBEE52903#32
  | 127 => 0x4027EE80#32
  | _ => 0#32

noncomputable abbrev lit0t0_297 (i : Nat) : BitVec 32 := match i % 128 with
  | 0 => 0xBF88D7FC#32
  | 1 => 0xBEAFE99A#32
  | 2 => 0xBFA7EFBD#32
  | 3 => 0xBFA52B0B#32
  | 4 => 0xBEC445D3#32
  | 5 => 0x3F5427A2#32
  | 6 => 0x40174EB4#32
  | 7 => 0xBE0829AB#32
  | 8 => 0xBF8C9686#32
  | 9 => 0x3F8D284E#32
  | 10 => 0x3F5ADB2A#32
  | 11 => 0xBCB4B192#32
  | 12 => 0x3E1BA023#32
  | 13 => 0xBFC005B6#32
  | 14 => 0x3F92D916#32
  | 15 => 0x400FA5F9#32
  | 16 => 0xBEDE126E#32
  | 17 => 0x3F9D37C9#32
  | 18 => 0x3FD61EC0#32
  | 19 => 0x3F9EDDAB#32
  | 20 => 0x3F2F4184#32
  | 21 => 0x3FEAD6D1#32
  | 22 => 0x3F91D251#32
  | 23 => 0xBF3AEA74#32
  | 24 => 0x3EBD4506#32
  | 25 => 0x3F02721A#32
  | 26 => 0xBCBB3050#32
  | 27 => 0x3F1B013D#32
  | 28 => 0x3F70570C#32
  | 29 => 0x3C8CB0C4#32
  | 30 => 0x3FE0F6B8#32
  | 31 => 0xBE10A25F#32
  | 32 => 0x3E173A5A#32
  | 33 => 0x3F0720E8#32
  | 34 => 0x3E703E4A#32
  | 35 => 0xBEA023DC#32
  | 36 => 0x3E6B2A24#32
  | 37 => 0xBF0274B4#32
  | 38 => 0xBE1F788B#32
  | 39 => 0x40969B19#32
  | 40 => 0x3E2A2CD7#32
  | 41 => 0x3F874841#32
  | 42 => 0x3EB31AD6#32
  | 43 => 0xBF9E0567#32
  | 44 => 0x3F2FC074#32
  | 45 => 0xBE7AC946#32
  | 46 => 0xBECF09B8#32
  | 47 => 0x3F1A9221#32
  | 48 => 0x3FE265F0#32
  | 49 => 0xBF3490AF#32
  | 50 => 0xBF008533#32
  | 51 => 0xBE389681#32
  | 52 => 0x406D9757#32
  | 53 => 0x3F36EFF5#32
  | 54 => 0xBF0CF18D#32
  | 55 => 0x3D8A8AA3#32
  | 56 => 0x3F1EB0D9#32
  | 57 => 0xBF397341#32
  | 58 => 0x3F0E03BD#32
  | 59 => 0x3F224DD0#32
  | 60 => 0xBE953D2D#32
  | 61 => 0x3ECC23F6#32
  | 62 => 0xBF1BBC45#32
  | 63 => 0x3E051A7F#32
  | 64 => 0xBE51B34A#32
  | 65 => 0x3E8E5EB5#32
  | 66 => 0x3F96EA73#32
  | 67 => 0xBF6BCCD2#32
  | 68 => 0x3ED5C36B#32
  | 69 => 0x401CF868#32
  | 70 => 0x4021D053#32
  | 71 => 0xBF36D9BA#32
  | 72 => 0x400C8D5B#32
  | 73 => 0x3FAFB09B#32
  | 74 => 0xBF7DB750#32
  | 75 => 0x3DF6AD9D#32
  | 76 => 0xBE5F3F60#32
  | 77 => 0xBF50EAF4#32
  | 78 => 0x3FB6C9FE#32
  | 79 => 0x3F2602DE#32
  | 80 => 0x3EB8FAA1#32
  | 81 => 0xBF9A52C0#32
  | 82 => 0x3EFB749C#32
  | 83 => 0x3D869B57#32
  | 84 => 0x3FB5883B#32
  | 85 => 0xBF9D00A2#32
  | 86 => 0x3F612B9C#32
  | 87 => 0x3E66CAD3#32
  | 88 => 0xBEB71CDA#32
  | 89 => 0x3DF553DB#32
  | 90 => 0x40413735#32
  | 91 => 0x40053AF5#32
  | 92 => 0x402AE6FD#32
  | 93 => 0x3F236D10#32
  | 94 => 0x3FF38810#32
  | 95 => 0x3F84FEA2#32
  | 96 => 0x3F1959EA#32
  | 97 => 0xBEF48EFF#32
  | 98 => 0xBDA51399#32
  | 99 => 0x3FAC2D40#32
  | 100 => 0x3EAFECD1#32
  | 101 => 0x3FC4F373#32
  | 102 => 0x3F94721D#32
  | 103 => 0x3FEACD7D#32
  | 104 => 0xBFCBDF3B#32
  | 105 => 0x3F476860#32
  | 106 => 0xBF8230D4#32
  | 107 => 0xBE399D85#32
  | 108 => 0xBEAA0A57#32
  | 109 => 0x3FF517E2#32
  | 110 => 0x3E8D9D48#32
  | 111 => 0xBF22FE09#32
  | 112 => 0x4084A439#32
  | 113 => 0x3F88E905#32
  | 114 => 0xBE7AC1A5#32
  | 115 => 0x3FC46268#32
  | 116 => 0x3FFC8440#32
  | 117 => 0x3EAD26A3#32
  | 118 => 0xBEE9E16E#32
  | 119 => 0xBEF8E090#32
  | 120 => 0x3FA6DB6D#32
  | 121 => 0xBF127004#32
  | 122 => 0xBF34E8F7#32
  | 123 => 0x3F6E3CFD#32
  | 124 => 0x3F193E4E#32
  | 125 => 0xBEDCD992#32
  | 126 => 0x3E019287#32
  | 127 => 0x3F56D0DC#32
  | _ => 0#32

noncomputable abbrev lit0t0_298 (i : Nat) : BitVec 32 := match i % 128 with
  | 0 => 0xBE96AB1B#32
  | 1 => 0xBF139DAB#32
  | 2 => 0xBE2DF7EE#32
  | 3 => 0x4004F96A#32
  | 4 => 0xBE8AAABC#32
  | 5 => 0xBF87E060#32
  | 6 => 0x40272710#32
  | 7 => 0x40034F24#32
  | 8 => 0x3F8456B9#32
  | 9 => 0xBF0E19D3#32
  | 10 => 0x3F35535B#32
  | 11 => 0x4007EAD8#32
  | 12 => 0x3CE9C5F7#32
  | 13 => 0x3F666F71#32
  | 14 => 0x4088EADF#32
  | 15 => 0x40866159#32
  | 16 => 0x3F2AB2DE#32
  | 17 => 0x3F73EFD7#32
  | 18 => 0x3F8DC299#32
  | 19 => 0x3FE88D42#32
  | 20 => 0x3E880A23#32
  | 21 => 0x3EBAAB8B#32
  | 22 => 0x400D48EC#32
  | 23 => 0x3F61E08A#32
  | 24 => 0x3E84E100#32
  | 25 => 0x3F018ECC#32
  | 26 => 0xBF2BD6F1#32
  | 27 => 0xBF140086#32
  | 28 => 0x3F420EEC#32
  | 29 => 0x3FE6158A#32
  | 30 => 0xBF81F14F#32
  | 31 => 0x403A76A6#32
  | 32 => 0x3E6DC5E5#32
  | 33 => 0xBE4CF8EE#32
  | 34 => 0xBE9E7E58#32
  | 35 => 0x3F3B07EF#32
  | 36 => 0x3E88F8ED#32
  | 37 => 0x400F8FC7#32
  | 38 => 0xBFCC9460#32
  | 39 => 0x3F87A418#32
  | 40 => 0x3D095E58#32
  | 41 => 0x3F9232AD#32
  | 42 => 0x3F335C38#32
  | 43 => 0x3EBCD898#32
  | 44 => 0x3FB835F5#32
  | 45 => 0x3F244F2F#32
  | 46 => 0xBE779FAA#32
  | 47 => 0x3EFDAF60#32
  | 48 => 0x3FF3C91B#32
  | 49 => 0x3FE00B9C#32
  | 50 => 0x4084420B#32
  | 51 => 0x3F7E3FEC#32
  | 52 => 0xBF390CA6#32
  | 53 => 0x3F8DCF6A#32
  | 54 => 0x3F94CA3C#32
  | 55 => 0xBF3723B5#32
  | 56 => 0x3D028E49#32
  | 57 => 0x407A21FA#32
  | 58 => 0x3F2A6271#32
  | 59 => 0x400352F6#32
  | 60 => 0x3EF8731A#32
  | 61 => 0x3E21CD5B#32
  | 62 => 0x3DB2276B#32
  | 63 => 0x3F9E9694#32
  | 64 => 0xBE1AC017#32
  | 65 => 0x3F3456FA#32
  | 66 => 0x3F6D41E8#32
  | 67 => 0xBDF79608#32
  | 68 => 0x3FA325EC#32
  | 69 => 0x408D1EDE#32
  | 70 => 0x3F39A729#32
  | 71 => 0x4061E30A#32
  | 72 => 0x3FACAABC#32
  | 73 => 0x403358DF#32
  | 74 => 0x3FC534DD#32
  | 75 => 0x3F4C2E32#32
  | 76 => 0x3F86BF5E#32
  | 77 => 0x3FB4BA0F#32
  | 78 => 0x3D1A54CE#32
  | 79 => 0xBF5E7880#32
  | 80 => 0xBF057512#32
  | 81 => 0x3E582663#32
  | 82 => 0x3F3CEBB4#32
  | 83 => 0x3FA1471C#32
  | 84 => 0x3EE84BFF#32
  | 85 => 0xBF8CB6C2#32
  | 86 => 0x3F2EC24B#32
  | 87 => 0xBE9AED0E#32
  | 88 => 0x3FB78659#32
  | 89 => 0x3FB184D9#32
  | 90 => 0x3F0EA7A8#32
  | 91 => 0x3FB5AF6C#32
  | 92 => 0x400B2413#32
  | 93 => 0x3FDBDEAC#32
  | 94 => 0x3EF9CC60#32
  | 95 => 0x40423212#32
  | 96 => 0x3F90C188#32
  | 97 => 0xBEA1FAF5#32
  | 98 => 0xBF48E8BB#32
  | 99 => 0x40287154#32
  | 100 => 0x3F788D60#32
  | 101 => 0xBF8C0797#32
  | 102 => 0xBFBDF538#32
  | 103 => 0xBF077E4E#32
  | 104 => 0xBF054BFD#32
  | 105 => 0x3F117C42#32
  | 106 => 0x3E86AEEA#32
  | 107 => 0x3DD4B195#32
  | 108 => 0x3F1485FE#32
  | 109 => 0x402C82AD#32
  | 110 => 0x400D6B54#32
  | 111 => 0x3F19A9D9#32
  | 112 => 0x3FF39F3C#32
  | 113 => 0x3FAD3DBA#32
  | 114 => 0xBED3B5D0#32
  | 115 => 0x3F29B479#32
  | 116 => 0xBF326182#32
  | 117 => 0x3FC660B5#32
  | 118 => 0xBF2569DD#32
  | 119 => 0x40557B02#32
  | 120 => 0x3F4A6BD8#32
  | 121 => 0xBF85B27B#32
  | 122 => 0xBF12C34E#32
  | 123 => 0xBF655B89#32
  | 124 => 0xBF607E22#32
  | 125 => 0xBFAA80B2#32
  | 126 => 0xBF03BEDE#32
  | 127 => 0x406A105B#32
  | _ => 0#32

noncomputable abbrev lit0t0_299 (i : Nat) : BitVec 32 := match i % 128 with
  | 0 => 0x3FFCE41C#32
  | 1 => 0x401904CD#32
  | 2 => 0xBE7725CE#32
  | 3 => 0x401CB7B2#32
  | 4 => 0x40A772AE#32
  | 5 => 0xBD4884DF#32
  | 6 => 0x3D8EF8B7#32
  | 7 => 0xBD9CE912#32
  | 8 => 0xBE91B075#32
  | 9 => 0x3FEB89C6#32
  | 10 => 0x4012505E#32
  | 11 => 0x3F4A47D9#32
  | 12 => 0xBEB6D9F6#32
  | 13 => 0xBD89427B#32
  | 14 => 0x3EFFE10C#32
  | 15 => 0x3F701466#32
  | 16 => 0x3F5D50AA#32
  | 17 => 0x3F148F28#32
  | 18 => 0x3EA03CEB#32
  | 19 => 0xBEA43FC2#32
  | 20 => 0xBEA9D6AA#32
  | 21 => 0xBEC90C9A#32
  | 22 => 0x3F7D33B8#32
  | 23 => 0xBF1D6C58#32
  | 24 => 0x3F47A186#32
  | 25 => 0x3FC0A8DA#32
  | 26 => 0x3FD5F51F#32
  | 27 => 0xBF0553FC#32
  | 28 => 0x3FF34F24#32
  | 29 => 0x3FD6CE32#32
  | 30 => 0x40699E42#32
  | 31 => 0xBF0ED784#32
  | 32 => 0x400541BC#32
  | 33 => 0xBF944355#32
  | 34 => 0xBF591FD2#32
  | 35 => 0xBE71E08D#32
  | 36 => 0x3DBC22D4#32
  | 37 => 0x3F4E3BEF#32
  | 38 => 0xBFD3254E#32
  | 39 => 0x3F88B556#32
  | 40 => 0x4003ED11#32
  | 41 => 0x3E8FD102#32
  | 42 => 0x3F18F9E1#32
  | 43 => 0x3ED99CEC#32
  | 44 => 0xBF061E8F#32
  | 45 => 0x3F26724A#32
  | 46 => 0xBE28933E#32
  | 47 => 0x3FA6F2E9#32
  | 48 => 0xBEE23D3A#32
  | 49 => 0xBF9C5821#32
  | 50 => 0x3F220DDE#32
  | 51 => 0xBD9E864D#32
  | 52 => 0x3F931657#32
  | 53 => 0x3EC109D7#32
  | 54 => 0x3F235F91#32
  | 55 => 0x400DAFD3#32
  | 56 => 0x3E773562#32
  | 57 => 0xBF25B760#32
  | 58 => 0x3E587F7C#32
  | 59 => 0xBE268AD9#32
  | 60 => 0xBD6DF2DF#32
  | 61 => 0x3F45EA0C#32
  | 62 => 0x3ECAAAB9#32
  | 63 => 0x3E06DDC0#32
  | 64 => 0x3E166EDB#32
  | 65 => 0xBF512E1B#32
  | 66 => 0x3EB243B3#32
  | 67 => 0xBE3C3BD0#32
  | 68 => 0xBF27B8EF#32
  | 69 => 0x400BE64E#32
  | 70 => 0x3F11FCC9#32
  | 71 => 0x3DA4ADB8#32
  | 72 => 0xBF111345#32
  | 73 => 0x400BFEF6#32
  | 74 => 0xBC0EFBD0#32
  | 75 => 0x3F9CC3F8#32
  | 76 => 0x3FBC1F4E#32
  | 77 => 0x3E393727#32
  | 78 => 0xBF15E8C1#32
  | 79 => 0x3EB3856C#32
  | 80 => 0x3F128F2E#32
  | 81 => 0x3F97F631#32
  | 82 => 0x3FD53C8D#32
  | 83 => 0x3F0EEE7C#32
  | 84 => 0xBF85B306#32
  | 85 => 0x3D41C1F8#32
  | 86 => 0xBF9AADDF#32
  | 87 => 0xBEA2F25A#32
  | 88 => 0xBF3398B8#32
  | 89 => 0xBF2FD98D#32
  | 90 => 0x403C9391#32
  | 91 => 0xBF71904F#32
  | 92 => 0xBEA07D1E#32
  | 93 => 0x3D40AAAA#32
  | 94 => 0xBEEEFBD8#32
  | 95 => 0x3FE6360D#32
  | 96 => 0x3F5FDD26#32
  | 97 => 0xBF3BE906#32
  | 98 => 0x40130871#32
  | 99 => 0x3F2DAFF5#32
  | 100 => 0xBD809C76#32
  | 101 => 0xBF7E5B5B#32
  | 102 => 0x40230531#32
  | 103 => 0x3FEFF8F6#32
  | 104 => 0x3B08443E#32
  | 105 => 0xBF069AE2#32
  | 106 => 0xBEEB61DB#32
  | 107 => 0xBEA48970#32
  | 108 => 0x3F74956F#32
  | 109 => 0x3F957CA0#32
  | 110 => 0xBF8946AF#32
  | 111 => 0x3FA087DF#32
  | 112 => 0x3F9E9A0F#32
  | 113 => 0x4049F000#32
  | 114 => 0xBFC11644#32
  | 115 => 0x3F60488E#32
  | 116 => 0xBEBEAE06#32
  | 117 => 0xBF4D56E1#32
  | 118 => 0xBFBEAE14#32
  | 119 => 0x3EFB4008#32
  | 120 => 0xBD95253B#32
  | 121 => 0x3FCD249B#32
  | 122 => 0xBE9D4E91#32
  | 123 => 0xBFD7FCA3#32
  | 124 => 0x3E869566#32
  | 125 => 0x3E374B55#32
  | 126 => 0x3F53D6B3#32
  | 127 => 0xBDB48897#32
  | _ => 0#32

noncomputable abbrev lit0t0_300 (i : Nat) : BitVec 32 := match i % 128 with
  | 0 => 0x3F59AAF1#32
  | 1 => 0xBFB3B64C#32
  | 2 => 0x4019AC77#32
  | 3 => 0xBB8EE025#32
  | 4 => 0x4036B61D#32
  | 5 => 0x4064634E#32
  | 6 => 0x3FBEB969#32
  | 7 => 0xBDF3D25E#32
  | 8 => 0xBFA6FE5A#32
  | 9 => 0x402822CA#32
  | 10 => 0xBE50C4BE#32
  | 11 => 0x3D041037#32
  | 12 => 0x3F1FC3FC#32
  | 13 => 0x3D8163A8#32
  | 14 => 0x401E7C10#32
  | 15 => 0x3EA66DC8#32
  | 16 => 0xBDEB6976#32
  | 17 => 0x3FDBFF5F#32
  | 18 => 0x3F55D958#32
  | 19 => 0xBF41F587#32
  | 20 => 0x3E9A61EA#32
  | 21 => 0x3EE801AD#32
  | 22 => 0xBF6A3562#32
  | 23 => 0x3F07C613#32
  | 24 => 0x3F81FCC3#32
  | 25 => 0x3F731E40#32
  | 26 => 0x3F9F2A17#32
  | 27 => 0x3EAB0276#32
  | 28 => 0x3F6025B6#32
  | 29 => 0xBCFA673A#32
  | 30 => 0x400F5053#32
  | 31 => 0x3E1E1BDF#32
  | 32 => 0xBF71F888#32
  | 33 => 0x3F53441C#32
  | 34 => 0x3F968C02#32
  | 35 => 0xBE9599A4#32
  | 36 => 0xBE931B8A#32
  | 37 => 0xBF802C3C#32
  | 38 => 0x3F0DC2B0#32
  | 39 => 0xBFCFB8B2#32
  | 40 => 0x402407C3#32
  | 41 => 0xBF18D07D#32
  | 42 => 0x3E30484F#32
  | 43 => 0x402A627C#32
  | 44 => 0x401A73B3#32
  | 45 => 0xBF3B3ACB#32
  | 46 => 0x4056FD7E#32
  | 47 => 0xBEB82B44#32
  | 48 => 0x3E9789B4#32
  | 49 => 0xBF56BB3E#32
  | 50 => 0x3F9BAD35#32
  | 51 => 0xBEAA7BA1#32
  | 52 => 0xBF36D9FF#32
  | 53 => 0x402CB767#32
  | 54 => 0xBAF6A88C#32
  | 55 => 0xBE0089CB#32
  | 56 => 0x3F0350B6#32
  | 57 => 0x3F32198D#32
  | 58 => 0xBE89B6B0#32
  | 59 => 0x3E03F574#32
  | 60 => 0x40057848#32
  | 61 => 0x3FA30D5F#32
  | 62 => 0xBF049FC2#32
  | 63 => 0xBF779800#32
  | 64 => 0xBFB238D6#32
  | 65 => 0x3F9ACBF8#32
  | 66 => 0xBC9686CA#32
  | 67 => 0xBFBD0AE7#32
  | 68 => 0x3FBAACE9#32
  | 69 => 0xBE19BA10#32
  | 70 => 0x3F8CD1EF#32
  | 71 => 0x3E5E3BAC#32
  | 72 => 0x4067CD74#32
  | 73 => 0x403BD14B#32
  | 74 => 0x3FBD4BFF#32
  | 75 => 0xBE490997#32
  | 76 => 0x3F60E189#32
  | 77 => 0x40BC2554#32
  | 78 => 0x3F55D30F#32
  | 79 => 0x3F1C6E82#32
  | 80 => 0x3FECEF4B#32
  | 81 => 0xBF64D500#32
  | 82 => 0x4008C844#32
  | 83 => 0xBC29C40F#32
  | 84 => 0x3F8E1F48#32
  | 85 => 0xBE3DF801#32
  | 86 => 0x3FA0CEC9#32
  | 87 => 0x3F83C706#32
  | 88 => 0x40336028#32
  | 89 => 0xBF37CDB1#32
  | 90 => 0x3F724FCD#32
  | 91 => 0x3F91FC74#32
  | 92 => 0x40282A49#32
  | 93 => 0xBF0317E2#32
  | 94 => 0x40B07A28#32
  | 95 => 0x3F661117#32
  | 96 => 0xBF11F159#32
  | 97 => 0x3E8C38CF#32
  | 98 => 0xBCDAD8B3#32
  | 99 => 0x3F1B9E3C#32
  | 100 => 0xBD8BA8E2#32
  | 101 => 0xBEDF3056#32
  | 102 => 0x3E9FC4A0#32
  | 103 => 0x3F750707#32
  | 104 => 0xBD803C9B#32
  | 105 => 0xBF8EAB29#32
  | 106 => 0x3F7B57AF#32
  | 107 => 0x3E83E609#32
  | 108 => 0x3F34B4AB#32
  | 109 => 0xBF7036B8#32
  | 110 => 0x3FE0F8D0#32
  | 111 => 0x3DC30081#32
  | 112 => 0x3D89356B#32
  | 113 => 0x3FC7D3C0#32
  | 114 => 0x3E7F534C#32
  | 115 => 0x3F8D6D0E#32
  | 116 => 0x3F7B58FE#32
  | 117 => 0x405AE754#32
  | 118 => 0x3F549FD1#32
  | 119 => 0x3FB227F9#32
  | 120 => 0xBE64C42F#32
  | 121 => 0x400D504C#32
  | 122 => 0x3FD4CA05#32
  | 123 => 0x400DE493#32
  | 124 => 0x403B1321#32
  | 125 => 0x3F32C696#32
  | 126 => 0xBE450CC5#32
  | 127 => 0x3F8A9BBA#32
  | _ => 0#32

noncomputable abbrev lit0t0_301 (i : Nat) : BitVec 32 := match i % 128 with
  | 0 => 0xBDA2C47B#32
  | 1 => 0x3FDDE628#32
  | 2 => 0xBED4BC70#32
  | 3 => 0x3F0715C7#32
  | 4 => 0x404E722F#32
  | 5 => 0x3F241A53#32
  | 6 => 0x400E6C60#32
  | 7 => 0x3FBA5CA6#32
  | 8 => 0xBE9467BD#32
  | 9 => 0xBDA7027E#32
  | 10 => 0xBF44B9D9#32
  | 11 => 0xBE48BB34#32
  | 12 => 0x3F8FFBF6#32
  | 13 => 0xBF7659FA#32
  | 14 => 0xBF3C7652#32
  | 15 => 0x3FB1352D#32
  | 16 => 0x3ECBB67A#32
  | 17 => 0x3F03AC4D#32
  | 18 => 0x3FB1263B#32
  | 19 => 0xBE0E7DDD#32
  | 20 => 0x3EC0E122#32
  | 21 => 0x3FA111D4#32
  | 22 => 0x3F41D131#32
  | 23 => 0xBD0A5952#32
  | 24 => 0x3F762F73#32
  | 25 => 0x3F9134FF#32
  | 26 => 0xBF5A34C1#32
  | 27 => 0x3F5BB058#32
  | 28 => 0x3E807D67#32
  | 29 => 0x4011B753#32
  | 30 => 0xBEC4D42A#32
  | 31 => 0x3EF79DCC#32
  | 32 => 0xBE54A35C#32
  | 33 => 0xBF6B5ED4#32
  | 34 => 0x3F4CF72E#32
  | 35 => 0xBEF6C22C#32
  | 36 => 0x3F0BF77E#32
  | 37 => 0x40583468#32
  | 38 => 0xBF6EAF8A#32
  | 39 => 0x3C82BCA7#32
  | 40 => 0x3E270A77#32
  | 41 => 0x3E1AE046#32
  | 42 => 0x3F3EBA32#32
  | 43 => 0xBF351172#32
  | 44 => 0x3EA0972F#32
  | 45 => 0x3F8E3950#32
  | 46 => 0x3EE12050#32
  | 47 => 0x4053C49B#32
  | 48 => 0x3FE73E20#32
  | 49 => 0xBF1914B6#32
  | 50 => 0x3FAB904B#32
  | 51 => 0x404B7F6E#32
  | 52 => 0xBF0ECBCC#32
  | 53 => 0x3DBB0F83#32
  | 54 => 0x3FDFD91C#32
  | 55 => 0x40C077F6#32
  | 56 => 0x3F62DF3D#32
  | 57 => 0x3F9F8173#32
  | 58 => 0x3DA51636#32
  | 59 => 0x3EAFF7BF#32
  | 60 => 0x3F567AE1#32
  | 61 => 0x3FF3F9F2#32
  | 62 => 0x3EA4DDE2#32
  | 63 => 0x3E7E18A4#32
  | 64 => 0xBE520BFD#32
  | 65 => 0xBE49D219#32
  | 66 => 0x3F94ADB9#32
  | 67 => 0xBF9C609F#32
  | 68 => 0x3EE5FEB1#32
  | 69 => 0x3F9B982B#32
  | 70 => 0xBF619A02#32
  | 71 => 0x3F35DA50#32
  | 72 => 0xBFA29B36#32
  | 73 => 0x3E84C94D#32
  | 74 => 0x3F6AC4E1#32
  | 75 => 0x3F3EBA89#32
  | 76 => 0xBDF5C20E#32
  | 77 => 0xBF414840#32
  | 78 => 0x3FFFE069#32
  | 79 => 0xBF8C9446#32
  | 80 => 0x3EACAE71#32
  | 81 => 0xBF74C8F6#32
  | 82 => 0x3F64A09C#32
  | 83 => 0xBEC9463A#32
  | 84 => 0x3E0AD38D#32
  | 85 => 0xBE10B31D#32
  | 86 => 0x4054FEA5#32
  | 87 => 0x40AB5D0B#32
  | 88 => 0x3FC569C1#32
  | 89 => 0xBF2A3434#32
  | 90 => 0x3F3410B4#32
  | 91 => 0x3E9F7147#32
  | 92 => 0x3F03AFCA#32
  | 93 => 0x3F353397#32
  | 94 => 0x3E6C51E1#32
  | 95 => 0xBFE458AD#32
  | 96 => 0xBECBDEB0#32
  | 97 => 0x3F03DBA9#32
  | 98 => 0x400C1DB3#32
  | 99 => 0x3F1DA346#32
  | 100 => 0x40077851#32
  | 101 => 0x40802750#32
  | 102 => 0x3F861952#32
  | 103 => 0xBF88917B#32
  | 104 => 0xBF098BC3#32
  | 105 => 0x3EF60B09#32
  | 106 => 0x3FED239F#32
  | 107 => 0x3FA35122#32
  | 108 => 0x3F6D2040#32
  | 109 => 0xBDF6176A#32
  | 110 => 0xBF10A21D#32
  | 111 => 0x40814347#32
  | 112 => 0x3DC0CA29#32
  | 113 => 0xBFA82BB5#32
  | 114 => 0xBE8833CC#32
  | 115 => 0xBCACC4D0#32
  | 116 => 0x3FD009BE#32
  | 117 => 0x3F04DCA0#32
  | 118 => 0x3F678B56#32
  | 119 => 0xBF1F7649#32
  | 120 => 0x400ADAAB#32
  | 121 => 0xBF21CBF8#32
  | 122 => 0x401AD539#32
  | 123 => 0x3F13467D#32
  | 124 => 0xBF31129D#32
  | 125 => 0x3D831126#32
  | 126 => 0x3F8171F9#32
  | 127 => 0x3FF176AB#32
  | _ => 0#32

noncomputable abbrev lit0t0_302 (i : Nat) : BitVec 32 := match i % 128 with
  | 0 => 0x3F86E68C#32
  | 1 => 0x3FEB3044#32
  | 2 => 0x3F21069E#32
  | 3 => 0xBF8E299E#32
  | 4 => 0xBF9D72EF#32
  | 5 => 0x403D7166#32
  | 6 => 0x3F2D835E#32
  | 7 => 0xBE5A6464#32
  | 8 => 0x3FCA5F34#32
  | 9 => 0xBFD08E1F#32
  | 10 => 0x3DD36052#32
  | 11 => 0x3EE97BC0#32
  | 12 => 0xBF7DDE28#32
  | 13 => 0xBDB346F0#32
  | 14 => 0xBEEF7781#32
  | 15 => 0x40223442#32
  | 16 => 0x3FDE38A4#32
  | 17 => 0x3F8224C3#32
  | 18 => 0x3FCD8F8A#32
  | 19 => 0xBF93CF11#32
  | 20 => 0x3FC5A9DC#32
  | 21 => 0x406B6530#32
  | 22 => 0xBF1DCBDC#32
  | 23 => 0xBF159445#32
  | 24 => 0xBEFF4F3C#32
  | 25 => 0xBF1882AE#32
  | 26 => 0x3F81640A#32
  | 27 => 0xBE00F276#32
  | 28 => 0x3F5630A6#32
  | 29 => 0x3F469C8B#32
  | 30 => 0x3FADF2E5#32
  | 31 => 0x3FAB6396#32
  | 32 => 0x3F5BDB9A#32
  | 33 => 0x3808C092#32
  | 34 => 0x3FE4F7D3#32
  | 35 => 0xBEC60EF3#32
  | 36 => 0xBEF50F2D#32
  | 37 => 0x400EB80B#32
  | 38 => 0x3F01043A#32
  | 39 => 0x402E00AF#32
  | 40 => 0x3F1D9AF0#32
  | 41 => 0xBE8E3292#32
  | 42 => 0xBDD32BDA#32
  | 43 => 0xBF1572B5#32
  | 44 => 0x3FC2245F#32
  | 45 => 0x3F924C73#32
  | 46 => 0xBF9FCC7F#32
  | 47 => 0xBF80D65A#32
  | 48 => 0x3F8C1A09#32
  | 49 => 0xBF899B59#32
  | 50 => 0xBEE0814E#32
  | 51 => 0x3E81348C#32
  | 52 => 0x3F1709A2#32
  | 53 => 0x3FD0CE1C#32
  | 54 => 0x3F7EE2EE#32
  | 55 => 0x3F71B400#32
  | 56 => 0xBF2875DC#32
  | 57 => 0x3F4F7329#32
  | 58 => 0x400D2D02#32
  | 59 => 0xBDEE7187#32
  | 60 => 0x40089261#32
  | 61 => 0x3F5A3783#32
  | 62 => 0x3F89E7EB#32
  | 63 => 0xBF6090B9#32
  | 64 => 0xBF70E5C9#32
  | 65 => 0xBF9CE4F0#32
  | 66 => 0xBF57A54A#32
  | 67 => 0xBF3E6D4D#32
  | 68 => 0x3E662B7E#32
  | 69 => 0x3E43AD81#32
  | 70 => 0x4007DF58#32
  | 71 => 0xBF6B9F24#32
  | 72 => 0xBF25EF98#32
  | 73 => 0x3F65E656#32
  | 74 => 0xBE4C9B08#32
  | 75 => 0xBEE57FEA#32
  | 76 => 0x3ECDDD79#32
  | 77 => 0xBF1E279E#32
  | 78 => 0x3F9C7769#32
  | 79 => 0x3E306C93#32
  | 80 => 0xBFA38846#32
  | 81 => 0xBCF1C1BA#32
  | 82 => 0x3F1B4E05#32
  | 83 => 0x3F5629AB#32
  | 84 => 0x4043B855#32
  | 85 => 0x3F5B8C56#32
  | 86 => 0x3E9A6247#32
  | 87 => 0x3EE5EC34#32
  | 88 => 0x3FC10EB3#32
  | 89 => 0x3E0DFD1C#32
  | 90 => 0xBF396DAE#32
  | 91 => 0xBFB5EBC7#32
  | 92 => 0x3CFAB840#32
  | 93 => 0x3EA77F70#32
  | 94 => 0x3FFE882C#32
  | 95 => 0x3E18BCF9#32
  | 96 => 0x3FB37384#32
  | 97 => 0x3FE8702D#32
  | 98 => 0x3DD22E4C#32
  | 99 => 0x4055A342#32
  | 100 => 0xBF27A745#32
  | 101 => 0xBE3E5A72#32
  | 102 => 0x3FCB2FCE#32
  | 103 => 0x3E0221EA#32
  | 104 => 0x3EA67F76#32
  | 105 => 0xBF4435C7#32
  | 106 => 0xBF78C2F6#32
  | 107 => 0x3F33011A#32
  | 108 => 0x3EAB0978#32
  | 109 => 0x3F674349#32
  | 110 => 0xBF2C0C38#32
  | 111 => 0x405EDE5A#32
  | 112 => 0xBFAE9310#32
  | 113 => 0xBF86B718#32
  | 114 => 0xBEA260A4#32
  | 115 => 0x3EF70A45#32
  | 116 => 0x3FE3446E#32
  | 117 => 0xBF05F012#32
  | 118 => 0x3EDAACD8#32
  | 119 => 0x3FBA81A9#32
  | 120 => 0x4023A3E5#32
  | 121 => 0x3DE3A320#32
  | 122 => 0x3FF430BE#32
  | 123 => 0xBE4FB462#32
  | 124 => 0x4032DFB9#32
  | 125 => 0x3ECBCA10#32
  | 126 => 0xBF8DF8EC#32
  | 127 => 0x3F8A8FCA#32
  | _ => 0#32

noncomputable abbrev lit0t0_303 (i : Nat) : BitVec 32 := match i % 128 with
  | 0 => 0x3F8699DF#32
  | 1 => 0x3F601512#32
  | 2 => 0xBEB37DF8#32
  | 3 => 0x3EC6F14B#32
  | 4 => 0xBF3965CF#32
  | 5 => 0x3F2CB2BB#32
  | 6 => 0x40357137#32
  | 7 => 0xBFA7BDF1#32
  | 8 => 0xBFAC9041#32
  | 9 => 0x40702F1F#32
  | 10 => 0xBE62CE76#32
  | 11 => 0x4019AB00#32
  | 12 => 0xBEAB874E#32
  | 13 => 0xBF03C3A5#32
  | 14 => 0xBE8F069F#32
  | 15 => 0xBF03A057#32
  | 16 => 0x401A927C#32
  | 17 => 0xBD61220C#32
  | 18 => 0xBF1E2E3D#32
  | 19 => 0x3DBEC55E#32
  | 20 => 0x3F7AC0FC#32
  | 21 => 0xBF702FA2#32
  | 22 => 0xBF1BE0B4#32
  | 23 => 0x3EF774F3#32
  | 24 => 0x3E804B59#32
  | 25 => 0x3FE9A94F#32
  | 26 => 0xBEF87FD1#32
  | 27 => 0x40841820#32
  | 28 => 0x3F8D8CF2#32
  | 29 => 0xBDD9EB18#32
  | 30 => 0x4017C3EC#32
  | 31 => 0x4083CD45#32
  | 32 => 0x3F18E797#32
  | 33 => 0x3E6E9B91#32
  | 34 => 0x4055CD42#32
  | 35 => 0x3EF2434C#32
  | 36 => 0x3F979B90#32
  | 37 => 0x3F4879D0#32
  | 38 => 0x3F197531#32
  | 39 => 0xBDA10DF0#32
  | 40 => 0xBCFD9EC0#32
  | 41 => 0x3FEF477A#32
  | 42 => 0xBFAF4A54#32
  | 43 => 0x3DEA5C21#32
  | 44 => 0x407F0B13#32
  | 45 => 0x3FED7B0B#32
  | 46 => 0xBF76028A#32
  | 47 => 0x4009DF36#32
  | 48 => 0x3F43B212#32
  | 49 => 0x3D9735FC#32
  | 50 => 0xBF3D1FCE#32
  | 51 => 0xBE19092D#32
  | 52 => 0x3F522140#32
  | 53 => 0x3F665D68#32
  | 54 => 0x3F94CD1F#32
  | 55 => 0x3D80A6E2#32
  | 56 => 0x4072D5E8#32
  | 57 => 0xBE906EDE#32
  | 58 => 0x3FB850C1#32
  | 59 => 0x3EE14E6A#32
  | 60 => 0xBE54EFB3#32
  | 61 => 0x3F56144F#32
  | 62 => 0xBD82A540#32
  | 63 => 0xBED2C3E9#32
  | 64 => 0x3E6FF718#32
  | 65 => 0x3F06F7DE#32
  | 66 => 0x3E9132A5#32
  | 67 => 0x3FA053FF#32
  | 68 => 0xBE0B1621#32
  | 69 => 0x3D73C358#32
  | 70 => 0xBF513C52#32
  | 71 => 0xBECA0A28#32
  | 72 => 0x3ED9F6D2#32
  | 73 => 0x3DB90357#32
  | 74 => 0x401D3F48#32
  | 75 => 0xBFA65810#32
  | 76 => 0x3D422758#32
  | 77 => 0xBF502E87#32
  | 78 => 0xBDA650B1#32
  | 79 => 0xBEACA925#32
  | 80 => 0x3E8E2D15#32
  | 81 => 0xBE19E96B#32
  | 82 => 0xBC836199#32
  | 83 => 0x3F5D951B#32
  | 84 => 0x40190FA1#32
  | 85 => 0x3F593DFB#32
  | 86 => 0xBE774EEC#32
  | 87 => 0x401564C9#32
  | 88 => 0x4044D305#32
  | 89 => 0xBF256C52#32
  | 90 => 0x403F4392#32
  | 91 => 0xBF5A6AB3#32
  | 92 => 0xBF2369A2#32
  | 93 => 0x3F694850#32
  | 94 => 0x3E0BD77B#32
  | 95 => 0x3DFE87C2#32
  | 96 => 0xBE2C2074#32
  | 97 => 0x3F88EA35#32
  | 98 => 0x3E4E542A#32
  | 99 => 0x3EAA04A3#32
  | 100 => 0xBF5A2BAE#32
  | 101 => 0xBE8AEC22#32
  | 102 => 0x3FB9F48B#32
  | 103 => 0x3F64FC1F#32
  | 104 => 0x3F44A870#32
  | 105 => 0x3F75D179#32
  | 106 => 0xBF5407DA#32
  | 107 => 0x4001E66D#32
  | 108 => 0x401109AA#32
  | 109 => 0x3FF1EF06#32
  | 110 => 0x3F1C9E11#32
  | 111 => 0xBEB98285#32
  | 112 => 0x3F00114B#32
  | 113 => 0xBF5BF123#32
  | 114 => 0x3F8B3C16#32
  | 115 => 0x403AC4C5#32
  | 116 => 0xBF212421#32
  | 117 => 0xBFB1903E#32
  | 118 => 0xBE969ED0#32
  | 119 => 0x4033CB99#32
  | 120 => 0x3F6BEFAE#32
  | 121 => 0xBF496AE2#32
  | 122 => 0xBEF4A422#32
  | 123 => 0x403B16E3#32
  | 124 => 0x3E62BA67#32
  | 125 => 0x3EA080A0#32
  | 126 => 0x3DB7BF40#32
  | 127 => 0xBEFE7E37#32
  | _ => 0#32

noncomputable abbrev lit0t0_304 (i : Nat) : BitVec 32 := match i % 128 with
  | 0 => 0xBD8400BC#32
  | 1 => 0x3F93AFC9#32
  | 2 => 0x3F906EC9#32
  | 3 => 0xBEC5658A#32
  | 4 => 0xBF431CCE#32
  | 5 => 0x3F4B15D8#32
  | 6 => 0xBF61B6F4#32
  | 7 => 0x3F981E0F#32
  | 8 => 0xBD893B87#32
  | 9 => 0x408577EF#32
  | 10 => 0x401B3320#32
  | 11 => 0x3F11EDDC#32
  | 12 => 0x3E0C827C#32
  | 13 => 0x3E418EBF#32
  | 14 => 0x3F8AD057#32
  | 15 => 0xBF1B524E#32
  | 16 => 0x3EE0850C#32
  | 17 => 0x3E782BDB#32
  | 18 => 0x3A265D82#32
  | 19 => 0x3F83E1C7#32
  | 20 => 0x402FE296#32
  | 21 => 0x3ECFAEF1#32
  | 22 => 0x3E87D4C1#32
  | 23 => 0x3D4B8FDC#32
  | 24 => 0xBFA0D967#32
  | 25 => 0x3F121C18#32
  | 26 => 0xBDE71A75#32
  | 27 => 0x3EC66D1F#32
  | 28 => 0x3DFBF035#32
  | 29 => 0x400B4A0B#32
  | 30 => 0x3F06E6A0#32
  | 31 => 0x3DB673E1#32
  | 32 => 0x3F397B8C#32
  | 33 => 0x3FABA65D#32
  | 34 => 0x40066714#32
  | 35 => 0x3ECDE9E0#32
  | 36 => 0x3DFF0140#32
  | 37 => 0x3F04E826#32
  | 38 => 0xBECD6036#32
  | 39 => 0x3F48B071#32
  | 40 => 0x3E16126D#32
  | 41 => 0x3F823C79#32
  | 42 => 0x3FA68435#32
  | 43 => 0x3F8931EE#32
  | 44 => 0x3DB1F3E9#32
  | 45 => 0xBF510846#32
  | 46 => 0x3EFA6276#32
  | 47 => 0x3FE30BAE#32
  | 48 => 0x3C8BA7A4#32
  | 49 => 0x3E91EB74#32
  | 50 => 0x400C82F5#32
  | 51 => 0xBED65B28#32
  | 52 => 0xBFA08F63#32
  | 53 => 0xBE1F8770#32
  | 54 => 0x40512B02#32
  | 55 => 0x401A97A5#32
  | 56 => 0x3F9F4D63#32
  | 57 => 0xBF6B0F44#32
  | 58 => 0x3F9DFEE3#32
  | 59 => 0x3EA3E987#32
  | 60 => 0xBCA44E59#32
  | 61 => 0x3FD45214#32
  | 62 => 0xBF8BF3D4#32
  | 63 => 0x3F3705C2#32
  | 64 => 0x3E6BC4EC#32
  | 65 => 0x3F167B93#32
  | 66 => 0xBE12D83B#32
  | 67 => 0x3E47FBE3#32
  | 68 => 0xBF333223#32
  | 69 => 0xBEE2164F#32
  | 70 => 0x3F5D3337#32
  | 71 => 0x3F3BAFB8#32
  | 72 => 0x3EBFEF8D#32
  | 73 => 0x3EE20C61#32
  | 74 => 0x3E945FF1#32
  | 75 => 0x3FECB901#32
  | 76 => 0x3F1632BF#32
  | 77 => 0x3F839CEB#32
  | 78 => 0xBF2F2815#32
  | 79 => 0xBD22F0B7#32
  | 80 => 0x3F9A3E5B#32
  | 81 => 0xBED95A47#32
  | 82 => 0xBD85119E#32
  | 83 => 0xBF1445D1#32
  | 84 => 0x3EF37AF6#32
  | 85 => 0xBFE151D0#32
  | 86 => 0xBE334C36#32
  | 87 => 0x3F494751#32
  | 88 => 0xBE3DFC0D#32
  | 89 => 0xBF314159#32
  | 90 => 0x3FE96E16#32
  | 91 => 0x3FA61747#32
  | 92 => 0xBF87B056#32
  | 93 => 0x40365E48#32
  | 94 => 0xBE81F40C#32
  | 95 => 0x3F8B7526#32
  | 96 => 0x3F3450FD#32
  | 97 => 0xBEA82ED9#32
  | 98 => 0x3F70476C#32
  | 99 => 0x3F2F6375#32
  | 100 => 0x3F0268F2#32
  | 101 => 0x3EF4D46A#32
  | 102 => 0xBF05D2EC#32
  | 103 => 0x3F7CC727#32
  | 104 => 0x3DB738DC#32
  | 105 => 0xBEC777E5#32
  | 106 => 0xBE865746#32
  | 107 => 0xBFCC153D#32
  | 108 => 0xBF31A8A8#32
  | 109 => 0x3F764B86#32
  | 110 => 0xBDF4676E#32
  | 111 => 0x3F3858F1#32
  | 112 => 0xBEC05004#32
  | 113 => 0xBF02E010#32
  | 114 => 0xBEA7F8C1#32
  | 115 => 0x3F3FAD29#32
  | 116 => 0x4019F694#32
  | 117 => 0x3FC0ED9C#32
  | 118 => 0x3F5FCEFE#32
  | 119 => 0x3F62FB43#32
  | 120 => 0x40025F52#32
  | 121 => 0xBF672500#32
  | 122 => 0x3F66EBA2#32
  | 123 => 0x3E99DA3C#32
  | 124 => 0xBF19F237#32
  | 125 => 0x3E920BB9#32
  | 126 => 0xBEA41389#32
  | 127 => 0x3F9B944A#32
  | _ => 0#32

noncomputable abbrev lit0t0_305 (i : Nat) : BitVec 32 := match i % 128 with
  | 0 => 0x3D018EAC#32
  | 1 => 0x3F612BFB#32
  | 2 => 0x3F901589#32
  | 3 => 0xBDE2956E#32
  | 4 => 0xBF9C6B01#32
  | 5 => 0x3F813693#32
  | 6 => 0x3FE9DA85#32
  | 7 => 0x3ECEE1FA#32
  | 8 => 0xBF82BBBC#32
  | 9 => 0x3F97943F#32
  | 10 => 0x3FB66042#32
  | 11 => 0xBC2288EE#32
  | 12 => 0x3ECEBA0E#32
  | 13 => 0x3F89DC88#32
  | 14 => 0x3FB0CF84#32
  | 15 => 0xBF0F12E4#32
  | 16 => 0x3E92FFCB#32
  | 17 => 0x3EB432FA#32
  | 18 => 0x3F7D7B9E#32
  | 19 => 0x3F7534F2#32
  | 20 => 0xBFB8E7E0#32
  | 21 => 0xBF1396CD#32
  | 22 => 0xBF2E2B4A#32
  | 23 => 0x4013D775#32
  | 24 => 0xBE0EA298#32
  | 25 => 0x3F78A9E7#32
  | 26 => 0x3FD1FB37#32
  | 27 => 0xBF1C131B#32
  | 28 => 0xBE992D94#32
  | 29 => 0xBE2CD10E#32
  | 30 => 0x4027899B#32
  | 31 => 0xBE6C5221#32
  | 32 => 0xBED81A3C#32
  | 33 => 0x401B1ABD#32
  | 34 => 0xBE8ACDEF#32
  | 35 => 0x3EEB6DD5#32
  | 36 => 0xBD89D44B#32
  | 37 => 0x402F8B99#32
  | 38 => 0x3EDB641B#32
  | 39 => 0xBF2B9F32#32
  | 40 => 0x40CE29EB#32
  | 41 => 0x3FEEC7A3#32
  | 42 => 0xBE5F695D#32
  | 43 => 0x3FA5A65B#32
  | 44 => 0x40075813#32
  | 45 => 0x3EFF4076#32
  | 46 => 0x3E83F0C3#32
  | 47 => 0xBF1D64EE#32
  | 48 => 0xBF0542BF#32
  | 49 => 0x3FF312BA#32
  | 50 => 0x40058491#32
  | 51 => 0xBF935C82#32
  | 52 => 0x4055669B#32
  | 53 => 0xBDE8C757#32
  | 54 => 0xBE72B988#32
  | 55 => 0xBE095427#32
  | 56 => 0xBEA75A44#32
  | 57 => 0x3F898969#32
  | 58 => 0x3FB80951#32
  | 59 => 0xBF065790#32
  | 60 => 0x3FD9A3D2#32
  | 61 => 0xBF3EC421#32
  | 62 => 0x406C6907#32
  | 63 => 0xBEAB523E#32
  | 64 => 0xBFB7713A#32
  | 65 => 0xBE97E234#32
  | 66 => 0xBFE2ED62#32
  | 67 => 0xBF146CDD#32
  | 68 => 0x3E76F0F7#32
  | 69 => 0x404B90D1#32
  | 70 => 0x3F72D4DC#32
  | 71 => 0xBF183C86#32
  | 72 => 0x40370E2D#32
  | 73 => 0xBE723410#32
  | 74 => 0x3F36C07D#32
  | 75 => 0x3E9FB950#32
  | 76 => 0xBC7FDDDC#32
  | 77 => 0x3FB4E42C#32
  | 78 => 0x3FA246CE#32
  | 79 => 0x3DAE7B11#32
  | 80 => 0xBE0F370C#32
  | 81 => 0xBF9CD245#32
  | 82 => 0x3D645E42#32
  | 83 => 0x3F046AD1#32
  | 84 => 0x3D808ACC#32
  | 85 => 0x3F5E96B4#32
  | 86 => 0xBEFF280C#32
  | 87 => 0x3FA98776#32
  | 88 => 0x3E45464C#32
  | 89 => 0x3E2D08CA#32
  | 90 => 0x3F806ABE#32
  | 91 => 0x3F811E7C#32
  | 92 => 0xBF1E15FD#32
  | 93 => 0xBFC1B291#32
  | 94 => 0xBF411D42#32
  | 95 => 0x3F16777C#32
  | 96 => 0x3FEC9251#32
  | 97 => 0xBEB62E84#32
  | 98 => 0x3F444763#32
  | 99 => 0xBF915A2F#32
  | 100 => 0x3FBD2899#32
  | 101 => 0xBEE79E3F#32
  | 102 => 0xBDCB761D#32
  | 103 => 0xBE8550C4#32
  | 104 => 0xBF1916E9#32
  | 105 => 0x3EAB9271#32
  | 106 => 0xBF430845#32
  | 107 => 0x3F4135FC#32
  | 108 => 0x3E944C4F#32
  | 109 => 0xBE6BDF28#32
  | 110 => 0xBF7BB546#32
  | 111 => 0xBFB6F90F#32
  | 112 => 0x4030C997#32
  | 113 => 0xBF4559B8#32
  | 114 => 0x3DC02402#32
  | 115 => 0xBF129028#32
  | 116 => 0x3FB48017#32
  | 117 => 0x3F0727FB#32
  | 118 => 0x3FC2EE7E#32
  | 119 => 0x3FB76C77#32
  | 120 => 0x3F822B56#32
  | 121 => 0x3ED8CF78#32
  | 122 => 0x3FCE1021#32
  | 123 => 0x3D7DB848#32
  | 124 => 0xBDED5868#32
  | 125 => 0x406E0FD7#32
  | 126 => 0x3EB7D365#32
  | 127 => 0xBF39A3DD#32
  | _ => 0#32

noncomputable abbrev lit0t0_306 (i : Nat) : BitVec 32 := match i % 128 with
  | 0 => 0x3E9F79CE#32
  | 1 => 0x3F226016#32
  | 2 => 0x3FD04CF0#32
  | 3 => 0x3EAED6AA#32
  | 4 => 0x3EF60971#32
  | 5 => 0x3FD90330#32
  | 6 => 0xBF2752CC#32
  | 7 => 0x3ED7F87F#32
  | 8 => 0x3C2B35B6#32
  | 9 => 0x3FDE1B54#32
  | 10 => 0x3DF2983A#32
  | 11 => 0x3E9F6460#32
  | 12 => 0xBED7B203#32
  | 13 => 0x4099DE8B#32
  | 14 => 0xBEA9E5D6#32
  | 15 => 0xBFF7144E#32
  | 16 => 0x3FF2640D#32
  | 17 => 0x40267A36#32
  | 18 => 0x3FE87A92#32
  | 19 => 0x40424B4F#32
  | 20 => 0x3F2A753F#32
  | 21 => 0x3F0AD9A3#32
  | 22 => 0x3FC8BD08#32
  | 23 => 0xBE30C262#32
  | 24 => 0x3E948D71#32
  | 25 => 0x3EC8ABC3#32
  | 26 => 0x3E078E0A#32
  | 27 => 0xBF525646#32
  | 28 => 0x3E5FFE21#32
  | 29 => 0x4008F41C#32
  | 30 => 0x3F73D4DA#32
  | 31 => 0x3F039AA0#32
  | 32 => 0xBE5B5DB9#32
  | 33 => 0x4095C2E1#32
  | 34 => 0xBD52FCD0#32
  | 35 => 0xBCD1E66D#32
  | 36 => 0x3E8F623D#32
  | 37 => 0x3F5BCEE0#32
  | 38 => 0xBECC1A53#32
  | 39 => 0x3EAC4F9A#32
  | 40 => 0x3F1CB1D7#32
  | 41 => 0xBFBE0671#32
  | 42 => 0xBEA54E7A#32
  | 43 => 0x3E2FE436#32
  | 44 => 0xBF458BF7#32
  | 45 => 0x3E73F971#32
  | 46 => 0x3F4543C6#32
  | 47 => 0x40555E7C#32
  | 48 => 0xBEAA6860#32
  | 49 => 0x3DF39EA0#32
  | 50 => 0x3E29062D#32
  | 51 => 0x3FF08C59#32
  | 52 => 0x3DFB8465#32
  | 53 => 0x3F19619A#32
  | 54 => 0x3EE0F10D#32
  | 55 => 0xBF0DD848#32
  | 56 => 0x3FBAD7B2#32
  | 57 => 0x3ECABE27#32
  | 58 => 0xBFE1EE02#32
  | 59 => 0xBF804AFD#32
  | 60 => 0xBEC58981#32
  | 61 => 0x3F0FE4D0#32
  | 62 => 0x3F29546B#32
  | 63 => 0x3DCE5E28#32
  | 64 => 0x3DE24E84#32
  | 65 => 0x3EE565A2#32
  | 66 => 0xBF51B4E2#32
  | 67 => 0xBE274D30#32
  | 68 => 0x3E1417FB#32
  | 69 => 0x3F13C451#32
  | 70 => 0x40A625D7#32
  | 71 => 0x3E804C50#32
  | 72 => 0xBE27ECC0#32
  | 73 => 0xBFB6BD3A#32
  | 74 => 0x3F0499CD#32
  | 75 => 0x3F7752C2#32
  | 76 => 0x3E24D07C#32
  | 77 => 0x3E82985E#32
  | 78 => 0x4049E61B#32
  | 79 => 0xBF3ECA2B#32
  | 80 => 0xBE7BFC94#32
  | 81 => 0x3E8EF6D6#32
  | 82 => 0x3E9FF264#32
  | 83 => 0x3FA60A77#32
  | 84 => 0xBE055167#32
  | 85 => 0x4042CB21#32
  | 86 => 0xBF287CC0#32
  | 87 => 0x3E80E6EA#32
  | 88 => 0x3F2C2881#32
  | 89 => 0x40937460#32
  | 90 => 0x402719AA#32
  | 91 => 0x3EFF6D30#32
  | 92 => 0xBE84CDE1#32
  | 93 => 0xBE022E36#32
  | 94 => 0x3E6E6B35#32
  | 95 => 0x3FAACDFB#32
  | 96 => 0xBFB63630#32
  | 97 => 0xBF1DD9D1#32
  | 98 => 0x3F1E6FD5#32
  | 99 => 0x3F31D732#32
  | 100 => 0x40421D62#32
  | 101 => 0xBE2DB8B8#32
  | 102 => 0xBF59E9C2#32
  | 103 => 0xBF9DFB96#32
  | 104 => 0x4053B9B1#32
  | 105 => 0x3D8427A4#32
  | 106 => 0x3ED76225#32
  | 107 => 0x3F1FCC9C#32
  | 108 => 0x40054323#32
  | 109 => 0x3E5CBA1F#32
  | 110 => 0x40001ACC#32
  | 111 => 0x3F0E5E9C#32
  | 112 => 0x3F4E14B0#32
  | 113 => 0x3F70AF9A#32
  | 114 => 0x408B26E8#32
  | 115 => 0x3E18BC8F#32
  | 116 => 0x3FF6C986#32
  | 117 => 0xBF3E9D6B#32
  | 118 => 0xBDA647A4#32
  | 119 => 0xBF071D45#32
  | 120 => 0x3E795A66#32
  | 121 => 0xBEFA72E0#32
  | 122 => 0x3F604EB4#32
  | 123 => 0xBF725D44#32
  | 124 => 0x3FAAFECF#32
  | 125 => 0x40A8EA5C#32
  | 126 => 0xBF9A5A56#32
  | 127 => 0xBEABB031#32
  | _ => 0#32

noncomputable abbrev lit0t0_307 (i : Nat) : BitVec 32 := match i % 128 with
  | 0 => 0xBF689716#32
  | 1 => 0x3E5ED349#32
  | 2 => 0x3F39A320#32
  | 3 => 0xBF0ACE12#32
  | 4 => 0x4041A1A1#32
  | 5 => 0x3FC8243A#32
  | 6 => 0x3F6C1F04#32
  | 7 => 0x3F009D1A#32
  | 8 => 0xBFAADA22#32
  | 9 => 0xBF01C3FA#32
  | 10 => 0xBF32720E#32
  | 11 => 0xBD87EDCB#32
  | 12 => 0xBE253CBC#32
  | 13 => 0xBED202CF#32
  | 14 => 0x3F01C916#32
  | 15 => 0x3F23E7E7#32
  | 16 => 0x3FAB5851#32
  | 17 => 0x3F69C571#32
  | 18 => 0xBE9B60CD#32
  | 19 => 0x3E32A436#32
  | 20 => 0xBF3D1464#32
  | 21 => 0x3EF9A2FC#32
  | 22 => 0xBEFA2110#32
  | 23 => 0xBF4FE93A#32
  | 24 => 0xBE991AD5#32
  | 25 => 0x3F8B0298#32
  | 26 => 0x3E3C9F71#32
  | 27 => 0xBEE4EC0F#32
  | 28 => 0xBEA25996#32
  | 29 => 0x3F82DE07#32
  | 30 => 0x3EA8845B#32
  | 31 => 0x3D6C0515#32
  | 32 => 0xBF50A2E4#32
  | 33 => 0xBE0D7FB3#32
  | 34 => 0xBE844163#32
  | 35 => 0xBE260605#32
  | 36 => 0x3F5E4AD2#32
  | 37 => 0x3FDD3F10#32
  | 38 => 0x4044AC9C#32
  | 39 => 0x3D68E6BB#32
  | 40 => 0xBFA6FDD9#32
  | 41 => 0xC002272B#32
  | 42 => 0xBE3C012B#32
  | 43 => 0xBCD0A9A0#32
  | 44 => 0xBEECFE0C#32
  | 45 => 0x3F8D38C6#32
  | 46 => 0xBEEE8678#32
  | 47 => 0xBBAFF0DD#32
  | 48 => 0x3EBCB16F#32
  | 49 => 0x3E75CCDC#32
  | 50 => 0x3FE8B6D1#32
  | 51 => 0x3D9B2785#32
  | 52 => 0x3E209559#32
  | 53 => 0x3F8B57B8#32
  | 54 => 0x3FC63C86#32
  | 55 => 0xBF84168C#32
  | 56 => 0xBE962E79#32
  | 57 => 0x3DED92DA#32
  | 58 => 0x4013984F#32
  | 59 => 0xBF2BCF58#32
  | 60 => 0x3D451D31#32
  | 61 => 0x3F273FB0#32
  | 62 => 0x3F6DDD8B#32
  | 63 => 0xBEE26C42#32
  | 64 => 0x3F762494#32
  | 65 => 0x3F13E1AB#32
  | 66 => 0x3EBEB66D#32
  | 67 => 0x3EA09319#32
  | 68 => 0xBFCC524F#32
  | 69 => 0x3FF50830#32
  | 70 => 0x3F7E573A#32
  | 71 => 0xBFDE9B16#32
  | 72 => 0x4036D569#32
  | 73 => 0xBFB4D807#32
  | 74 => 0x3F8068AA#32
  | 75 => 0x3FD43819#32
  | 76 => 0x3FBBBB4C#32
  | 77 => 0x3EB06A85#32
  | 78 => 0x40105159#32
  | 79 => 0x3DE918FF#32
  | 80 => 0xBDE89303#32
  | 81 => 0xBF6872B5#32
  | 82 => 0xBF723DC3#32
  | 83 => 0x3FE029B2#32
  | 84 => 0xBF3FE448#32
  | 85 => 0xBD945C3F#32
  | 86 => 0xC00E423D#32
  | 87 => 0x3FDAAC03#32
  | 88 => 0xBF328BA5#32
  | 89 => 0x3EE8637C#32
  | 90 => 0xBF18B9BF#32
  | 91 => 0x4009107E#32
  | 92 => 0xBF9017DA#32
  | 93 => 0xBF14E218#32
  | 94 => 0x3D87A2E3#32
  | 95 => 0x3F9E00C2#32
  | 96 => 0x4000BFE8#32
  | 97 => 0x3E1AB6BA#32
  | 98 => 0x3F6A1751#32
  | 99 => 0x3FC9232D#32
  | 100 => 0xBEFFCD0A#32
  | 101 => 0x3ECECCAB#32
  | 102 => 0x3E9E8122#32
  | 103 => 0x3EEB77B2#32
  | 104 => 0x3F899336#32
  | 105 => 0x400C1CF5#32
  | 106 => 0x3F1DC8F5#32
  | 107 => 0xBFB3A8B2#32
  | 108 => 0x3FB17099#32
  | 109 => 0xBD86A765#32
  | 110 => 0xBF0C0F98#32
  | 111 => 0x3E48DCA7#32
  | 112 => 0xBD0BC57F#32
  | 113 => 0xBFABAED8#32
  | 114 => 0x3F2F5BFF#32
  | 115 => 0x400D42F9#32
  | 116 => 0xBF681297#32
  | 117 => 0xBFBA585A#32
  | 118 => 0x3F460162#32
  | 119 => 0xBEA1AD5D#32
  | 120 => 0x4011574B#32
  | 121 => 0xBF68EFBA#32
  | 122 => 0xBCC52550#32
  | 123 => 0xBF95AB2C#32
  | 124 => 0x3E8BF267#32
  | 125 => 0xBFCE52ED#32
  | 126 => 0x3F673A7E#32
  | 127 => 0xBF09ACCD#32
  | _ => 0#32

noncomputable abbrev lit0t0_308 (i : Nat) : BitVec 32 := match i % 128 with
  | 0 => 0x40A848EC#32
  | 1 => 0xBF24FFBF#32
  | 2 => 0x3FE9CB70#32
  | 3 => 0x403892C4#32
  | 4 => 0x4012895A#32
  | 5 => 0xBDA739E7#32
  | 6 => 0x3E952F20#32
  | 7 => 0x3DF46C15#32
  | 8 => 0xBEB150B0#32
  | 9 => 0xBD037A59#32
  | 10 => 0x3EA3B1A9#32
  | 11 => 0x3EB8C1D1#32
  | 12 => 0x3EA88B94#32
  | 13 => 0x3F0821DA#32
  | 14 => 0x3FC8F0C1#32
  | 15 => 0xBE5B4AC1#32
  | 16 => 0xBD67E3EC#32
  | 17 => 0x3D23631F#32
  | 18 => 0xBF1B227C#32
  | 19 => 0xBF05C29C#32
  | 20 => 0xBEB13332#32
  | 21 => 0x3F806EB2#32
  | 22 => 0x3F3E4290#32
  | 23 => 0xBF2C3B1D#32
  | 24 => 0x3FAD157E#32
  | 25 => 0x3F4205BC#32
  | 26 => 0x3F2E1E9C#32
  | 27 => 0x3EB9B2E6#32
  | 28 => 0x400A6AFD#32
  | 29 => 0xBD2D89F4#32
  | 30 => 0x3E6C5E6A#32
  | 31 => 0x3F12D7C5#32
  | 32 => 0xBF9DC282#32
  | 33 => 0x3ED68BBC#32
  | 34 => 0x4006DD9C#32
  | 35 => 0x401A09E6#32
  | 36 => 0x3F47B8A6#32
  | 37 => 0xBD35858D#32
  | 38 => 0xBE73DAA6#32
  | 39 => 0x401E17B4#32
  | 40 => 0x3C9A4C0B#32
  | 41 => 0xBF4B013A#32
  | 42 => 0x3F308455#32
  | 43 => 0x401E8DBD#32
  | 44 => 0xBC3ADF24#32
  | 45 => 0xBEF7EFFA#32
  | 46 => 0x3F66D40F#32
  | 47 => 0xBEF2070B#32
  | 48 => 0x3C23F24A#32
  | 49 => 0x4033A316#32
  | 50 => 0xBF7BD816#32
  | 51 => 0x3FC0C1F9#32
  | 52 => 0x3FC72C9E#32
  | 53 => 0xBDBC6ADA#32
  | 54 => 0xBF7D1A97#32
  | 55 => 0x3E9AA9A1#32
  | 56 => 0x405657C2#32
  | 57 => 0xBF452247#32
  | 58 => 0x3FE326E9#32
  | 59 => 0x3ECF3817#32
  | 60 => 0xBF0D6E11#32
  | 61 => 0xBE2317E9#32
  | 62 => 0x3B913E48#32
  | 63 => 0xBED9CE17#32
  | 64 => 0x3F1F5185#32
  | 65 => 0x3E3852E9#32
  | 66 => 0xBE4A2E05#32
  | 67 => 0x3FE019B0#32
  | 68 => 0xBF8FBE69#32
  | 69 => 0x3FF6AB6F#32
  | 70 => 0xBD25E727#32
  | 71 => 0x3E853506#32
  | 72 => 0x40344A52#32
  | 73 => 0x3F245FE4#32
  | 74 => 0xBF45014C#32
  | 75 => 0x3F19F158#32
  | 76 => 0x3F34335B#32
  | 77 => 0xBF47E3C2#32
  | 78 => 0xBFB99F12#32
  | 79 => 0xBF0C9CB8#32
  | 80 => 0x3F98D64C#32
  | 81 => 0xBF89A330#32
  | 82 => 0x3FF58B92#32
  | 83 => 0x3FB746ED#32
  | 84 => 0x3ECAD275#32
  | 85 => 0x3F9DE52A#32
  | 86 => 0x401C5A5E#32
  | 87 => 0x3F8B0820#32
  | 88 => 0xBF975F5E#32
  | 89 => 0x3FEDA69D#32
  | 90 => 0x3F9B2A27#32
  | 91 => 0x3F7C5BAA#32
  | 92 => 0x3F0C9774#32
  | 93 => 0x3F60D6FF#32
  | 94 => 0x3F89DEC6#32
  | 95 => 0x3F4CDB06#32
  | 96 => 0x3EE32B6E#32
  | 97 => 0x4032C72F#32
  | 98 => 0x3EE93E0C#32
  | 99 => 0xBE654B5D#32
  | 100 => 0xBF3FD2D9#32
  | 101 => 0xBE7F0CB0#32
  | 102 => 0x3F3EB501#32
  | 103 => 0xBE14CB1B#32
  | 104 => 0x4004BC8D#32
  | 105 => 0x3ED02692#32
  | 106 => 0xBF60C428#32
  | 107 => 0x4067B574#32
  | 108 => 0x3F870FEE#32
  | 109 => 0xBDB513A2#32
  | 110 => 0xBD514F6B#32
  | 111 => 0x3DBCF34A#32
  | 112 => 0xBE63CD2F#32
  | 113 => 0x3F7C5386#32
  | 114 => 0x3F90C341#32
  | 115 => 0x3F0B260F#32
  | 116 => 0x3DA034E4#32
  | 117 => 0xBEC89BD7#32
  | 118 => 0x3F7D953C#32
  | 119 => 0x3F2A4908#32
  | 120 => 0xBE344BB4#32
  | 121 => 0x3E94252A#32
  | 122 => 0x401AEC7C#32
  | 123 => 0x40328741#32
  | 124 => 0x3F74FE64#32
  | 125 => 0x3F064E06#32
  | 126 => 0xBF1185B6#32
  | 127 => 0x3FE317B0#32
  | _ => 0#32

noncomputable abbrev lit0t0_309 (i : Nat) : BitVec 32 := match i % 128 with
  | 0 => 0xBE9D8B0C#32
  | 1 => 0x3F4DB626#32
  | 2 => 0x3FC48141#32
  | 3 => 0x400176BE#32
  | 4 => 0x3F7E3590#32
  | 5 => 0x3EC6389B#32
  | 6 => 0x3DE6C74E#32
  | 7 => 0xBF8D23DD#32
  | 8 => 0xBD2B953E#32
  | 9 => 0xBE147696#32
  | 10 => 0x3E7CDE26#32
  | 11 => 0x40427BAC#32
  | 12 => 0xBF3724B8#32
  | 13 => 0x3EDD5716#32
  | 14 => 0x3FC9C2C8#32
  | 15 => 0xBF6C4AB4#32
  | 16 => 0xBE478BB0#32
  | 17 => 0x3F69E3C7#32
  | 18 => 0x3F2BFC72#32
  | 19 => 0x3DB113B3#32
  | 20 => 0xBF4D130C#32
  | 21 => 0x3E043541#32
  | 22 => 0x3D470A26#32
  | 23 => 0xBE031111#32
  | 24 => 0xBF0ED85E#32
  | 25 => 0xBF876704#32
  | 26 => 0xBF64ACCC#32
  | 27 => 0xBDC5ECAE#32
  | 28 => 0x3F8E205E#32
  | 29 => 0x4003C2EC#32
  | 30 => 0xBED0EA90#32
  | 31 => 0xBF32E0C1#32
  | 32 => 0xBD43059D#32
  | 33 => 0x3F9C0365#32
  | 34 => 0x3F1527B8#32
  | 35 => 0x3D11C685#32
  | 36 => 0x3DF588EA#32
  | 37 => 0x3EE38686#32
  | 38 => 0x3E6D1424#32
  | 39 => 0x3F19E1DC#32
  | 40 => 0x3ECF319A#32
  | 41 => 0xBF4742C9#32
  | 42 => 0x3F46E974#32
  | 43 => 0xBF626833#32
  | 44 => 0x3F45A498#32
  | 45 => 0x3FFD38A2#32
  | 46 => 0xBEE2D0F2#32
  | 47 => 0xBFA1E050#32
  | 48 => 0x3EF0A59E#32
  | 49 => 0x3FCF4F92#32
  | 50 => 0x400806C0#32
  | 51 => 0xBF05CB43#32
  | 52 => 0xBF0E8D17#32
  | 53 => 0x3FD71D4C#32
  | 54 => 0x3E80B497#32
  | 55 => 0xBEA34C1D#32
  | 56 => 0xBEDCCFEA#32
  | 57 => 0xBFB5AF3A#32
  | 58 => 0xBE11E1E5#32
  | 59 => 0xBE9D02B6#32
  | 60 => 0xBD3C7FA7#32
  | 61 => 0xBF6EC83E#32
  | 62 => 0xBE32397D#32
  | 63 => 0xBC03F29E#32
  | 64 => 0x3FA566B6#32
  | 65 => 0xBD220F57#32
  | 66 => 0x3FD3DD4A#32
  | 67 => 0x3FFF24AB#32
  | 68 => 0xBF2B9F82#32
  | 69 => 0xBF960DBB#32
  | 70 => 0xBF882ED6#32
  | 71 => 0x3F8DA3C7#32
  | 72 => 0x3FCCF63F#32
  | 73 => 0x3EC2B837#32
  | 74 => 0x3FF0F1ED#32
  | 75 => 0xBE68532F#32
  | 76 => 0x3EB2D3B2#32
  | 77 => 0xBF176ED0#32
  | 78 => 0x3FB9D2F2#32
  | 79 => 0x40917EC9#32
  | 80 => 0x3E8767A9#32
  | 81 => 0x3F14946F#32
  | 82 => 0xBEF3FCF7#32
  | 83 => 0x3F28DFA0#32
  | 84 => 0x3FFAC6FB#32
  | 85 => 0x3F12B8D7#32
  | 86 => 0xBE09A9D0#32
  | 87 => 0x3FA2B66B#32
  | 88 => 0x3FFED557#32
  | 89 => 0xBF898C00#32
  | 90 => 0x3F93F2DE#32
  | 91 => 0xBF1F9A24#32
  | 92 => 0x3E2CCF09#32
  | 93 => 0x3FD2C042#32
  | 94 => 0x40133CC9#32
  | 95 => 0xBF949D16#32
  | 96 => 0xBFB586D2#32
  | 97 => 0x3F88C196#32
  | 98 => 0xBCB9636A#32
  | 99 => 0x3F1DE230#32
  | 100 => 0x3F64C2DF#32
  | 101 => 0xBF230582#32
  | 102 => 0xBFAA821C#32
  | 103 => 0xBFAF9176#32
  | 104 => 0x3F1F04EE#32
  | 105 => 0x3E04585E#32
  | 106 => 0x3F3F5BD5#32
  | 107 => 0xBE69D028#32
  | 108 => 0x3EA495ED#32
  | 109 => 0x3F3FA558#32
  | 110 => 0x3F921E8C#32
  | 111 => 0x3F28D292#32
  | 112 => 0x40069348#32
  | 113 => 0xBE7EB0F4#32
  | 114 => 0x3F69A522#32
  | 115 => 0x40DEF417#32
  | 116 => 0x3F34A4B8#32
  | 117 => 0x3E12A249#32
  | 118 => 0xBC8F5619#32
  | 119 => 0x3FC7C220#32
  | 120 => 0x3FBB307A#32
  | 121 => 0xBD95FC40#32
  | 122 => 0xBFE2019D#32
  | 123 => 0x3F18220D#32
  | 124 => 0x3ED6F31B#32
  | 125 => 0x3E808626#32
  | 126 => 0xBF1D29E3#32
  | 127 => 0x3F80975E#32
  | _ => 0#32

noncomputable abbrev lit0t0_310 (i : Nat) : BitVec 32 := match i % 128 with
  | 0 => 0x3F1E3678#32
  | 1 => 0xBEEE45A0#32
  | 2 => 0x3F2E5AE0#32
  | 3 => 0x3F2597C9#32
  | 4 => 0x3F7280CF#32
  | 5 => 0x3F69D867#32
  | 6 => 0xBE8112F5#32
  | 7 => 0x3F9D4A1D#32
  | 8 => 0x3FC106C0#32
  | 9 => 0xBF10854E#32
  | 10 => 0x3F576367#32
  | 11 => 0xBF0C27E1#32
  | 12 => 0x401F5A22#32
  | 13 => 0xBEC3C188#32
  | 14 => 0x3EAA7942#32
  | 15 => 0x40130CE8#32
  | 16 => 0xBED6FA03#32
  | 17 => 0x3F1C4941#32
  | 18 => 0x3FD09EC5#32
  | 19 => 0xBF3B6770#32
  | 20 => 0xBD9E5512#32
  | 21 => 0x3F8FB81D#32
  | 22 => 0x3F9CA55A#32
  | 23 => 0xBE90EFB7#32
  | 24 => 0x3F5026FA#32
  | 25 => 0x40720364#32
  | 26 => 0x3E4BAE9B#32
  | 27 => 0x3D3EB0EA#32
  | 28 => 0xBE3CBB1E#32
  | 29 => 0x3FA3F5CA#32
  | 30 => 0xBE2918B7#32
  | 31 => 0x3F6574B9#32
  | 32 => 0x3E5B8FE1#32
  | 33 => 0x3F54ED6C#32
  | 34 => 0xBEBA8102#32
  | 35 => 0xBF3BF060#32
  | 36 => 0x3FE50038#32
  | 37 => 0xBF334955#32
  | 38 => 0x3ECC286C#32
  | 39 => 0x3D884449#32
  | 40 => 0xBEE10BB5#32
  | 41 => 0x3F0E22D0#32
  | 42 => 0x3F54FA70#32
  | 43 => 0x3F201C54#32
  | 44 => 0xBF84B547#32
  | 45 => 0xBED7E689#32
  | 46 => 0xBE0211AD#32
  | 47 => 0xBF6841E5#32
  | 48 => 0x3EC24C76#32
  | 49 => 0xBF461E7A#32
  | 50 => 0x3FCC840D#32
  | 51 => 0x3EA22505#32
  | 52 => 0x3F7501AE#32
  | 53 => 0x3E838A20#32
  | 54 => 0x3EEF18A4#32
  | 55 => 0x3E9088B1#32
  | 56 => 0x3DB8975E#32
  | 57 => 0x3FA02AB0#32
  | 58 => 0x3F2D0D53#32
  | 59 => 0x3E7B88C4#32
  | 60 => 0x3F82BF9A#32
  | 61 => 0x3E98706A#32
  | 62 => 0x404FF2F0#32
  | 63 => 0x3FEEBEEB#32
  | 64 => 0x3E27374B#32
  | 65 => 0x3D17B7A5#32
  | 66 => 0x3E9550EE#32
  | 67 => 0x3CF635C2#32
  | 68 => 0x402B0767#32
  | 69 => 0x3E8F7921#32
  | 70 => 0x3EB555D8#32
  | 71 => 0x3EE3D4C6#32
  | 72 => 0xBF945902#32
  | 73 => 0x400E02C0#32
  | 74 => 0xBFA08EB7#32
  | 75 => 0x3EECCEE3#32
  | 76 => 0x3F645EE1#32
  | 77 => 0xBF97CE22#32
  | 78 => 0x40887A68#32
  | 79 => 0x40167099#32
  | 80 => 0x402AA73F#32
  | 81 => 0x3F851F80#32
  | 82 => 0xBF114980#32
  | 83 => 0x3F67BA3E#32
  | 84 => 0x4001F4D7#32
  | 85 => 0x3F0D92B2#32
  | 86 => 0x3F9E013D#32
  | 87 => 0x405833FE#32
  | 88 => 0xBF47884F#32
  | 89 => 0x3FD9B9E2#32
  | 90 => 0x3F107FB6#32
  | 91 => 0x3FA05DD7#32
  | 92 => 0x4009F2D4#32
  | 93 => 0xBF303FEB#32
  | 94 => 0x3FA40E8B#32
  | 95 => 0xBF760B65#32
  | 96 => 0xBED8A719#32
  | 97 => 0x3EB7151E#32
  | 98 => 0x401A982C#32
  | 99 => 0xBEDDAC12#32
  | 100 => 0x401159CB#32
  | 101 => 0x408A744D#32
  | 102 => 0x4026EF1D#32
  | 103 => 0x3F8B63F8#32
  | 104 => 0xBED0EBA2#32
  | 105 => 0x3E3131CA#32
  | 106 => 0x3F53F89A#32
  | 107 => 0xBF0B10C7#32
  | 108 => 0xBF7743F4#32
  | 109 => 0x3F65D2A0#32
  | 110 => 0xBDE27D33#32
  | 111 => 0x3FE22D81#32
  | 112 => 0x3D800C81#32
  | 113 => 0x3F8CC708#32
  | 114 => 0x3F4826D1#32
  | 115 => 0x3E5C54D3#32
  | 116 => 0x3E07B3BB#32
  | 117 => 0x3F16C774#32
  | 118 => 0xBF2B94E5#32
  | 119 => 0x3FE603E0#32
  | 120 => 0xBF348E70#32
  | 121 => 0xBF2854EA#32
  | 122 => 0xBF40BF3B#32
  | 123 => 0x3FA4CAAC#32
  | 124 => 0x3C8768CC#32
  | 125 => 0x3E88BB9E#32
  | 126 => 0x3CA487A7#32
  | 127 => 0x3F35A7E8#32
  | _ => 0#32

noncomputable abbrev lit0t0_311 (i : Nat) : BitVec 32 := match i % 128 with
  | 0 => 0x3EB13FAE#32
  | 1 => 0x3F486A50#32
  | 2 => 0x3F0848BE#32
  | 3 => 0x3F4ADEA2#32
  | 4 => 0xBF3F92AF#32
  | 5 => 0xBF5486DF#32
  | 6 => 0x4064C4D8#32
  | 7 => 0xBFAA4227#32
  | 8 => 0x3FA4DD7B#32
  | 9 => 0xBF18AC3D#32
  | 10 => 0xBF38CF04#32
  | 11 => 0xBEDC899C#32
  | 12 => 0x3FC74714#32
  | 13 => 0x3FF0689B#32
  | 14 => 0x3E8C341B#32
  | 15 => 0x3F035A8A#32
  | 16 => 0x3F21E37C#32
  | 17 => 0x3F5B1C64#32
  | 18 => 0xBF83AC14#32
  | 19 => 0xBDEF262F#32
  | 20 => 0x3FDA47C9#32
  | 21 => 0x3E2C1F21#32
  | 22 => 0xBE63B4BE#32
  | 23 => 0x3F1B7FC9#32
  | 24 => 0x3F080C03#32
  | 25 => 0x40043F3F#32
  | 26 => 0x3F2F8226#32
  | 27 => 0x3E391791#32
  | 28 => 0x402EDCBC#32
  | 29 => 0xBF9C2225#32
  | 30 => 0x3EAE2C1C#32
  | 31 => 0x3EB4062F#32
  | 32 => 0xBD83EDCE#32
  | 33 => 0x3D958D28#32
  | 34 => 0x401970A6#32
  | 35 => 0x4007A798#32
  | 36 => 0x3D18AC72#32
  | 37 => 0x3FA5A4D7#32
  | 38 => 0xBD434930#32
  | 39 => 0x403CE25D#32
  | 40 => 0xBFA072D8#32
  | 41 => 0x3E94CB66#32
  | 42 => 0x3F45976B#32
  | 43 => 0x3EBBF981#32
  | 44 => 0x3FD914A2#32
  | 45 => 0x3FCC2D50#32
  | 46 => 0x3F8E975C#32
  | 47 => 0x3EAC9A25#32
  | 48 => 0x407C069E#32
  | 49 => 0xBE83B0C1#32
  | 50 => 0x3F00A53C#32
  | 51 => 0x40069015#32
  | 52 => 0x3FBC6169#32
  | 53 => 0x3EA4748D#32
  | 54 => 0xBE9162B2#32
  | 55 => 0x4014FF91#32
  | 56 => 0x3DA929AB#32
  | 57 => 0xBF0B8171#32
  | 58 => 0x3F0C03CC#32
  | 59 => 0x3FFB9C93#32
  | 60 => 0x3FFC3017#32
  | 61 => 0x3FFD7411#32
  | 62 => 0xBFC51AF8#32
  | 63 => 0x3EB5265E#32
  | 64 => 0x3F4FFCD9#32
  | 65 => 0x3E58D32D#32
  | 66 => 0x406C4C8E#32
  | 67 => 0xBF046366#32
  | 68 => 0xBE31D1BF#32
  | 69 => 0x3E6E11AB#32
  | 70 => 0x3FB481E8#32
  | 71 => 0x3F350D2E#32
  | 72 => 0x3EF3A53B#32
  | 73 => 0x3EC62F2C#32
  | 74 => 0x3FC5B564#32
  | 75 => 0x3FA94687#32
  | 76 => 0xBDE7730D#32
  | 77 => 0x3F837A7E#32
  | 78 => 0x3F3CC2B9#32
  | 79 => 0xBF30748C#32
  | 80 => 0x3F0557D5#32
  | 81 => 0x409A3EE5#32
  | 82 => 0x3F6D96CC#32
  | 83 => 0xBE384255#32
  | 84 => 0xBEE0EC1D#32
  | 85 => 0xBD2E6DD0#32
  | 86 => 0xBEBC71D2#32
  | 87 => 0xBE548746#32
  | 88 => 0x3DD31AC9#32
  | 89 => 0xBEA0B5D5#32
  | 90 => 0x3F1DA70C#32
  | 91 => 0x3EAF1BB7#32
  | 92 => 0x3F7A82B5#32
  | 93 => 0x3DF860AE#32
  | 94 => 0xBEF3AD65#32
  | 95 => 0x3F567BCC#32
  | 96 => 0x3FCD67B0#32
  | 97 => 0xBF4068E1#32
  | 98 => 0x3FE88BC2#32
  | 99 => 0xBED0A705#32
  | 100 => 0xBFABA5BB#32
  | 101 => 0x3F2701CD#32
  | 102 => 0xBFC20BDB#32
  | 103 => 0x3D54BC58#32
  | 104 => 0x3ED64DDF#32
  | 105 => 0x3D95FB89#32
  | 106 => 0x3F6FFED3#32
  | 107 => 0x3F36A217#32
  | 108 => 0xBDF4897D#32
  | 109 => 0x3EC0728F#32
  | 110 => 0x3EA2FB88#32
  | 111 => 0x3FF42CED#32
  | 112 => 0xBEB83A7C#32
  | 113 => 0x3E98D418#32
  | 114 => 0x3FCFD508#32
  | 115 => 0xBF030B3E#32
  | 116 => 0xBF3D27A6#32
  | 117 => 0x3F153F97#32
  | 118 => 0x3FF2EB43#32
  | 119 => 0x3EEE1600#32
  | 120 => 0xBF905066#32
  | 121 => 0x40914869#32
  | 122 => 0xBEE9D158#32
  | 123 => 0xBE8B0B5D#32
  | 124 => 0xBD42DBA8#32
  | 125 => 0x3FAC8948#32
  | 126 => 0x3F8B3A24#32
  | 127 => 0x3F13A6B3#32
  | _ => 0#32

noncomputable abbrev lit0t0_312 (i : Nat) : BitVec 32 := match i % 128 with
  | 0 => 0x40D475A1#32
  | 1 => 0x3CF06785#32
  | 2 => 0xBF801B10#32
  | 3 => 0x3D18C9B4#32
  | 4 => 0x3F885246#32
  | 5 => 0x3F522229#32
  | 6 => 0x3E2C6D39#32
  | 7 => 0xBF69204A#32
  | 8 => 0xBF3D23C4#32
  | 9 => 0x408AEEFF#32
  | 10 => 0x3F199E4B#32
  | 11 => 0x4007F9AA#32
  | 12 => 0x40548D82#32
  | 13 => 0x3F839F9B#32
  | 14 => 0xBEEC832A#32
  | 15 => 0xBF8474B7#32
  | 16 => 0xBE2E4009#32
  | 17 => 0x40265FA3#32
  | 18 => 0x3FB33FF1#32
  | 19 => 0x3EAB538D#32
  | 20 => 0x3F042C01#32
  | 21 => 0x3F3ED12E#32
  | 22 => 0x3FE1757C#32
  | 23 => 0x3E82FF9D#32
  | 24 => 0xBF3725B0#32
  | 25 => 0x406708F0#32
  | 26 => 0xBEEBA537#32
  | 27 => 0x40184D03#32
  | 28 => 0x3F49406B#32
  | 29 => 0x3F283FB7#32
  | 30 => 0x3F5934E0#32
  | 31 => 0x3E3DE765#32
  | 32 => 0x406627A1#32
  | 33 => 0x3EDFA049#32
  | 34 => 0x3F24C775#32
  | 35 => 0x40204EC3#32
  | 36 => 0x403AFBF5#32
  | 37 => 0xBEB95F58#32
  | 38 => 0x3E53A92A#32
  | 39 => 0x3EF2B6EA#32
  | 40 => 0x3E5DC3AD#32
  | 41 => 0xBF1ECD6C#32
  | 42 => 0xBEA64553#32
  | 43 => 0x3FD78E85#32
  | 44 => 0xBF50D009#32
  | 45 => 0xBE0510C9#32
  | 46 => 0x3F9923E1#32
  | 47 => 0x3FDC488D#32
  | 48 => 0x3FE1157D#32
  | 49 => 0x3EA43236#32
  | 50 => 0x3E6A00D0#32
  | 51 => 0xBF20F90B#32
  | 52 => 0xBF533D6D#32
  | 53 => 0x3EEBE88C#32
  | 54 => 0x3E5AE107#32
  | 55 => 0xBF3758C4#32
  | 56 => 0xBCFDCEFB#32
  | 57 => 0x3F7AB346#32
  | 58 => 0xBF36F0AE#32
  | 59 => 0x3FD22314#32
  | 60 => 0x3FB562ED#32
  | 61 => 0x3F88EF67#32
  | 62 => 0xBF7E3F05#32
  | 63 => 0x3F91685A#32
  | 64 => 0xBCB54C9B#32
  | 65 => 0x3FF9AE04#32
  | 66 => 0x3FB01773#32
  | 67 => 0xBF6F1CD7#32
  | 68 => 0x3F8168E0#32
  | 69 => 0x3E417966#32
  | 70 => 0x3FB6FA29#32
  | 71 => 0x3EFA57A4#32
  | 72 => 0x40170C94#32
  | 73 => 0x3D31DB51#32
  | 74 => 0xBF92A9B3#32
  | 75 => 0x3FE3E9DA#32
  | 76 => 0xBF0027B9#32
  | 77 => 0xBF4C43F4#32
  | 78 => 0x3EB3767E#32
  | 79 => 0x3DEB46A9#32
  | 80 => 0xBF1055B2#32
  | 81 => 0xBF5C726A#32
  | 82 => 0xBEDA29FE#32
  | 83 => 0x40150045#32
  | 84 => 0xBFB5A4F7#32
  | 85 => 0xBD97C3F9#32
  | 86 => 0xBF324225#32
  | 87 => 0xBEDBB009#32
  | 88 => 0x3E1F3BCB#32
  | 89 => 0xBD2B334E#32
  | 90 => 0x3F81B1DE#32
  | 91 => 0xBE6A9857#32
  | 92 => 0x3F3ED3B3#32
  | 93 => 0xBF2597BF#32
  | 94 => 0xBFB60201#32
  | 95 => 0x3F959342#32
  | 96 => 0x40559B82#32
  | 97 => 0xBF8BD347#32
  | 98 => 0x3D6F47A0#32
  | 99 => 0xBE175F2A#32
  | 100 => 0x3F8D9C15#32
  | 101 => 0xBF5BAFB7#32
  | 102 => 0xBF81E1C1#32
  | 103 => 0xBE4C7F02#32
  | 104 => 0xBE462650#32
  | 105 => 0xBF8E6530#32
  | 106 => 0x3F2F2813#32
  | 107 => 0xBF968145#32
  | 108 => 0x3FED85F8#32
  | 109 => 0x3F6A90BE#32
  | 110 => 0xBDC0CDEF#32
  | 111 => 0x3FE09B60#32
  | 112 => 0x3FA8006F#32
  | 113 => 0x3F8B9CDC#32
  | 114 => 0x3F461A2D#32
  | 115 => 0x3F53AC4A#32
  | 116 => 0xBF08B179#32
  | 117 => 0x3E16DA24#32
  | 118 => 0x4055A085#32
  | 119 => 0x3F821733#32
  | 120 => 0x3FA7E508#32
  | 121 => 0x401DDFDE#32
  | 122 => 0xBF030D9A#32
  | 123 => 0x3F3052AE#32
  | 124 => 0xBF6275D3#32
  | 125 => 0x3F0E9C87#32
  | 126 => 0x40137652#32
  | 127 => 0x3F7CE49E#32
  | _ => 0#32

noncomputable abbrev lit0t0_313 (i : Nat) : BitVec 32 := match i % 128 with
  | 0 => 0xBF874B84#32
  | 1 => 0x3E807CB3#32
  | 2 => 0x3FD46998#32
  | 3 => 0x3F63C437#32
  | 4 => 0x3DE185B3#32
  | 5 => 0x3F0C1530#32
  | 6 => 0x3CD21E3A#32
  | 7 => 0x3FAAF35E#32
  | 8 => 0x4027E258#32
  | 9 => 0xBF9CE1A6#32
  | 10 => 0xBE5C2FC1#32
  | 11 => 0x3E56A9E1#32
  | 12 => 0xBF0442B4#32
  | 13 => 0x3FB0307A#32
  | 14 => 0x3F6E7D9B#32
  | 15 => 0x40291194#32
  | 16 => 0xBFC5EFD7#32
  | 17 => 0x3EF377DF#32
  | 18 => 0xBF15EA76#32
  | 19 => 0x3FC7DBFE#32
  | 20 => 0x3EBB37EC#32
  | 21 => 0xC0031A80#32
  | 22 => 0x3F0320F6#32
  | 23 => 0xBEC339E1#32
  | 24 => 0x40650011#32
  | 25 => 0x3F67CC74#32
  | 26 => 0xBE8A662A#32
  | 27 => 0x3FABCBF8#32
  | 28 => 0x3FA146DF#32
  | 29 => 0xBE93DDCC#32
  | 30 => 0x3ECD1BBB#32
  | 31 => 0x3F1A4882#32
  | 32 => 0x3F905699#32
  | 33 => 0x3C4EE27C#32
  | 34 => 0x401FC46C#32
  | 35 => 0xBF4C181C#32
  | 36 => 0x3F0E06FA#32
  | 37 => 0x3E91CCB2#32
  | 38 => 0x3F840B06#32
  | 39 => 0x3F969321#32
  | 40 => 0xBF5D2FFB#32
  | 41 => 0xBCBC1E4C#32
  | 42 => 0x4087B25B#32
  | 43 => 0x3FB8AFB3#32
  | 44 => 0x3E8D18DB#32
  | 45 => 0xBFD1E648#32
  | 46 => 0x401E7228#32
  | 47 => 0xBE5F6C41#32
  | 48 => 0x3DC6F6B2#32
  | 49 => 0xBE4AC016#32
  | 50 => 0xBF0D51E2#32
  | 51 => 0x3D52806C#32
  | 52 => 0xBFC84B40#32
  | 53 => 0xBED3FD4C#32
  | 54 => 0x3E98463A#32
  | 55 => 0x4056BD0C#32
  | 56 => 0x4008F2D7#32
  | 57 => 0x3F4426B1#32
  | 58 => 0x3F232139#32
  | 59 => 0xBF37CE68#32
  | 60 => 0xBF3A5BEA#32
  | 61 => 0xBDE63438#32
  | 62 => 0xBCC32383#32
  | 63 => 0x3E857545#32
  | 64 => 0xBF097881#32
  | 65 => 0x3D370DDA#32
  | 66 => 0x3FEAF895#32
  | 67 => 0xBF220C7A#32
  | 68 => 0xBF72FAFE#32
  | 69 => 0x402011B1#32
  | 70 => 0xBFDE0280#32
  | 71 => 0x405A59AC#32
  | 72 => 0x3F2A70B9#32
  | 73 => 0x40E9F51F#32
  | 74 => 0xBECEE07C#32
  | 75 => 0x3FE0FD18#32
  | 76 => 0x3F9DF97C#32
  | 77 => 0x3F685447#32
  | 78 => 0x3F5BA63C#32
  | 79 => 0xBF467039#32
  | 80 => 0xBEFFADFE#32
  | 81 => 0x3F869C79#32
  | 82 => 0x3F60CDF0#32
  | 83 => 0xBFAC6C97#32
  | 84 => 0x3F2BE1E2#32
  | 85 => 0xBF0AE458#32
  | 86 => 0xBDF8B085#32
  | 87 => 0x3FEE5650#32
  | 88 => 0xBEE49594#32
  | 89 => 0xBEBE4550#32
  | 90 => 0x3F971FDF#32
  | 91 => 0x3EC94EF1#32
  | 92 => 0xBE155F34#32
  | 93 => 0x404F14C4#32
  | 94 => 0xBE8FFF05#32
  | 95 => 0x3FCD9782#32
  | 96 => 0x3FA636D1#32
  | 97 => 0x402B623C#32
  | 98 => 0xBE90F2C6#32
  | 99 => 0xBF48B996#32
  | 100 => 0xBF49F57E#32
  | 101 => 0x3FB43AA2#32
  | 102 => 0x40B27143#32
  | 103 => 0x3D5B495E#32
  | 104 => 0x4011EC97#32
  | 105 => 0x3FBCA458#32
  | 106 => 0x3FDA1246#32
  | 107 => 0x3DD59982#32
  | 108 => 0x3E902F81#32
  | 109 => 0x40129186#32
  | 110 => 0x404CC68E#32
  | 111 => 0x3E4AA765#32
  | 112 => 0x3F9ECEE6#32
  | 113 => 0x4048A67F#32
  | 114 => 0xBF9EE0BD#32
  | 115 => 0x40878233#32
  | 116 => 0x3F8EE81D#32
  | 117 => 0x3FF05503#32
  | 118 => 0x3F927BE9#32
  | 119 => 0xBF9317AF#32
  | 120 => 0x3E84A303#32
  | 121 => 0x3E1275A9#32
  | 122 => 0x3EF33BCB#32
  | 123 => 0x3C784CBD#32
  | 124 => 0x3DF52972#32
  | 125 => 0x3D342C7F#32
  | 126 => 0xBE99A349#32
  | 127 => 0x3D9518FD#32
  | _ => 0#32

noncomputable abbrev lit0t0_314 (i : Nat) : BitVec 32 := match i % 128 with
  | 0 => 0xBF84CE89#32
  | 1 => 0xBF65D4D6#32
  | 2 => 0x4009BF73#32
  | 3 => 0xBE54133B#32
  | 4 => 0xBFAF20F8#32
  | 5 => 0x3F8F7CD3#32
  | 6 => 0xBDFB7CDA#32
  | 7 => 0x3EB7DFAE#32
  | 8 => 0xBF6BAF44#32
  | 9 => 0xBF961EF2#32
  | 10 => 0x3EB3F4CE#32
  | 11 => 0x3EB0922B#32
  | 12 => 0xBEF7854C#32
  | 13 => 0x3F172478#32
  | 14 => 0x3F83843B#32
  | 15 => 0x3F8DB086#32
  | 16 => 0x3F3CA357#32
  | 17 => 0x3F89FC77#32
  | 18 => 0xBF6FF80B#32
  | 19 => 0x3EFFB511#32
  | 20 => 0xBEB8BC4C#32
  | 21 => 0x3FFBCB10#32
  | 22 => 0xBF9CBB40#32
  | 23 => 0x400DE45A#32
  | 24 => 0xBEECE352#32
  | 25 => 0x3FF28B0C#32
  | 26 => 0x3E4AE373#32
  | 27 => 0xBED2A11D#32
  | 28 => 0x3FAE8118#32
  | 29 => 0xBF2C36ED#32
  | 30 => 0x3FB25602#32
  | 31 => 0x3F31E9B6#32
  | 32 => 0x3FFBE2CE#32
  | 33 => 0xBF12237F#32
  | 34 => 0xBF658390#32
  | 35 => 0xBE27F0A0#32
  | 36 => 0xBF155B49#32
  | 37 => 0x3F921B4D#32
  | 38 => 0x40598890#32
  | 39 => 0xBF218E30#32
  | 40 => 0x3E7CEBCA#32
  | 41 => 0xBECCF39A#32
  | 42 => 0xBF4101CA#32
  | 43 => 0x3F3620EF#32
  | 44 => 0xBEB55453#32
  | 45 => 0x404FA32D#32
  | 46 => 0x3ED4196F#32
  | 47 => 0x3F976DF7#32
  | 48 => 0x3F1831C2#32
  | 49 => 0xBF881E39#32
  | 50 => 0xBEF7FEB6#32
  | 51 => 0x3DC1EC67#32
  | 52 => 0xBF249B6B#32
  | 53 => 0x3FCEAE26#32
  | 54 => 0x3FDF9CFB#32
  | 55 => 0x3E933F29#32
  | 56 => 0x3EF40212#32
  | 57 => 0x3F997782#32
  | 58 => 0xBF68BED0#32
  | 59 => 0xBF80C55B#32
  | 60 => 0xBF2F9A8F#32
  | 61 => 0x3F072781#32
  | 62 => 0x3FF317D9#32
  | 63 => 0x3FE720BB#32
  | 64 => 0xBF1D8870#32
  | 65 => 0x3F5A8AFA#32
  | 66 => 0x402447A7#32
  | 67 => 0x3F5BB4BD#32
  | 68 => 0x3E8980DE#32
  | 69 => 0x3D8A6E03#32
  | 70 => 0xBB852AA2#32
  | 71 => 0x3F9576DA#32
  | 72 => 0x404AF59F#32
  | 73 => 0x3F1B0AD4#32
  | 74 => 0x3FA4ACEA#32
  | 75 => 0x3E18CE26#32
  | 76 => 0x3F149FE5#32
  | 77 => 0x3DC63F3D#32
  | 78 => 0xBEAC1FDB#32
  | 79 => 0x3F069F82#32
  | 80 => 0x3FF0D62E#32
  | 81 => 0x3F2A7776#32
  | 82 => 0xBF6BABC8#32
  | 83 => 0xBD1B9809#32
  | 84 => 0xBFB10D73#32
  | 85 => 0x3F9C2FF1#32
  | 86 => 0xBF36D583#32
  | 87 => 0x40A6F20B#32
  | 88 => 0x4018935D#32
  | 89 => 0x400B6370#32
  | 90 => 0x3F2CDAF7#32
  | 91 => 0x3F65704A#32
  | 92 => 0x3F7175D0#32
  | 93 => 0xBF4C0D07#32
  | 94 => 0x3F98879C#32
  | 95 => 0xBF892782#32
  | 96 => 0xBE93D188#32
  | 97 => 0x3E0231AC#32
  | 98 => 0xBF81F6BE#32
  | 99 => 0x3E96B2C5#32
  | 100 => 0x401A8337#32
  | 101 => 0x3E95BC23#32
  | 102 => 0x4047DF62#32
  | 103 => 0x3FC01341#32
  | 104 => 0x3FC78D78#32
  | 105 => 0x3F5A9987#32
  | 106 => 0xBD9762B2#32
  | 107 => 0x3C8BDDEF#32
  | 108 => 0x3F85F2BE#32
  | 109 => 0xBEA3B209#32
  | 110 => 0x3F2D5CE5#32
  | 111 => 0xBEA48D50#32
  | 112 => 0x3E98CBE7#32
  | 113 => 0xBF2B267B#32
  | 114 => 0x3FAA7D80#32
  | 115 => 0xBE252F7D#32
  | 116 => 0x3FBA66CE#32
  | 117 => 0xBBABD773#32
  | 118 => 0x3EBF98C7#32
  | 119 => 0x4014647D#32
  | 120 => 0xBE1DBD98#32
  | 121 => 0x3E19E04B#32
  | 122 => 0xBEFDCE58#32
  | 123 => 0x3EA9E222#32
  | 124 => 0x3E281D18#32
  | 125 => 0xBF861846#32
  | 126 => 0xBBF0C107#32
  | 127 => 0xBE9A4D6C#32
  | _ => 0#32

noncomputable abbrev lit0t0_315 (i : Nat) : BitVec 32 := match i % 128 with
  | 0 => 0x3F095152#32
  | 1 => 0x3FEEC6C0#32
  | 2 => 0x3FA262EE#32
  | 3 => 0x3DCC8FAA#32
  | 4 => 0x3EB084DB#32
  | 5 => 0xBEC13C7F#32
  | 6 => 0x3C2A9409#32
  | 7 => 0xBECB4ACE#32
  | 8 => 0x3DB0BE1E#32
  | 9 => 0x4071A9AC#32
  | 10 => 0xBF9EE876#32
  | 11 => 0x3F6582E3#32
  | 12 => 0x3FD11E80#32
  | 13 => 0x3FCA1959#32
  | 14 => 0x3FE15254#32
  | 15 => 0xBE818FD7#32
  | 16 => 0x3FB74742#32
  | 17 => 0xBE50130B#32
  | 18 => 0x3FF86F82#32
  | 19 => 0x40A106DA#32
  | 20 => 0xBF58B866#32
  | 21 => 0x3EF0895B#32
  | 22 => 0x408B8342#32
  | 23 => 0x3E24FF2D#32
  | 24 => 0xBF1F031F#32
  | 25 => 0xBF464378#32
  | 26 => 0xBFAD2124#32
  | 27 => 0x3F2B97DA#32
  | 28 => 0xBFC5D7DB#32
  | 29 => 0x3FF0B377#32
  | 30 => 0x3E8E15A1#32
  | 31 => 0xBED88E15#32
  | 32 => 0x3E9DE88A#32
  | 33 => 0x3FC99C35#32
  | 34 => 0xBF4C0077#32
  | 35 => 0x3F94E087#32
  | 36 => 0x3ED68D1C#32
  | 37 => 0xBEFE0A10#32
  | 38 => 0xBE0067CE#32
  | 39 => 0xBF894A0A#32
  | 40 => 0x3FB9BDE8#32
  | 41 => 0x3EF90E1E#32
  | 42 => 0xBF462682#32
  | 43 => 0xBE7710D7#32
  | 44 => 0x3F8BCC47#32
  | 45 => 0x3C17BACE#32
  | 46 => 0x3F970F23#32
  | 47 => 0x3DE5A01C#32
  | 48 => 0xBEC93303#32
  | 49 => 0x3FA55746#32
  | 50 => 0x403EB6B5#32
  | 51 => 0xBF23E02B#32
  | 52 => 0x40B2B83E#32
  | 53 => 0x3F1B1534#32
  | 54 => 0x403C1F0D#32
  | 55 => 0xBF383ED7#32
  | 56 => 0x40043C60#32
  | 57 => 0x3F51E638#32
  | 58 => 0x3FC26C6A#32
  | 59 => 0x3F789DF0#32
  | 60 => 0xBFBA588D#32
  | 61 => 0x3D93EA48#32
  | 62 => 0x3EF58B82#32
  | 63 => 0x3ECD5A1F#32
  | 64 => 0xBF5D0C5B#32
  | 65 => 0x3FC2C1DA#32
  | 66 => 0x3F35D3C9#32
  | 67 => 0x3EB71D38#32
  | 68 => 0x400E855E#32
  | 69 => 0x4013BA36#32
  | 70 => 0x3F368F39#32
  | 71 => 0x3FF6D603#32
  | 72 => 0x3BA636BC#32
  | 73 => 0xBED2DA70#32
  | 74 => 0xBEEF50DE#32
  | 75 => 0x402A6044#32
  | 76 => 0x3F08BCF0#32
  | 77 => 0xBF5B26AE#32
  | 78 => 0x4008AC32#32
  | 79 => 0x3FFE7D0C#32
  | 80 => 0x3F6B51BE#32
  | 81 => 0xBE61A29E#32
  | 82 => 0x3DC0879F#32
  | 83 => 0x3FA159F2#32
  | 84 => 0x3FE14384#32
  | 85 => 0xBF9EDEFA#32
  | 86 => 0xBD9FE461#32
  | 87 => 0x40070E6C#32
  | 88 => 0x3E73A333#32
  | 89 => 0xBE83CE9B#32
  | 90 => 0x3F2C6E6B#32
  | 91 => 0x3F965CA4#32
  | 92 => 0x3FF90B03#32
  | 93 => 0xBE5AC5CF#32
  | 94 => 0x3FED3336#32
  | 95 => 0x3EB175E8#32
  | 96 => 0x3F8B4DBA#32
  | 97 => 0x400B51B8#32
  | 98 => 0xBE83025D#32
  | 99 => 0xBF6BC3C6#32
  | 100 => 0x408FEACF#32
  | 101 => 0xBEB43176#32
  | 102 => 0xBF25E32D#32
  | 103 => 0xBF2794B6#32
  | 104 => 0x3FDBE4FA#32
  | 105 => 0xBF0CC085#32
  | 106 => 0x3C35F637#32
  | 107 => 0x3FDC3E58#32
  | 108 => 0x404DB641#32
  | 109 => 0xBF757F4B#32
  | 110 => 0xBF4C81C6#32
  | 111 => 0x3F1ED983#32
  | 112 => 0x3F37A795#32
  | 113 => 0x3E6D77DC#32
  | 114 => 0x3F840778#32
  | 115 => 0xBFB1DB32#32
  | 116 => 0x3F95F403#32
  | 117 => 0x3F822F17#32
  | 118 => 0x3D33A3BE#32
  | 119 => 0x4065B542#32
  | 120 => 0x3ECDE65C#32
  | 121 => 0x3FC6B17E#32
  | 122 => 0x3FD9A5DA#32
  | 123 => 0x3F92729D#32
  | 124 => 0x3F69EE48#32
  | 125 => 0xBF51670C#32
  | 126 => 0x3E17DA46#32
  | 127 => 0x3FB44104#32
  | _ => 0#32

noncomputable abbrev lit0t0_316 (i : Nat) : BitVec 32 := match i % 128 with
  | 0 => 0x3E8B67F0#32
  | 1 => 0xBDEA5BE8#32
  | 2 => 0x3CF70109#32
  | 3 => 0x3FA8E131#32
  | 4 => 0xBF907C35#32
  | 5 => 0x3EEB79BC#32
  | 6 => 0x3DD72204#32
  | 7 => 0xBF466968#32
  | 8 => 0xBFA16734#32
  | 9 => 0x404AED14#32
  | 10 => 0xBED5CE49#32
  | 11 => 0x3F873A35#32
  | 12 => 0x3FC153C2#32
  | 13 => 0x3E0202D5#32
  | 14 => 0x3F92FCBF#32
  | 15 => 0xBE52332F#32
  | 16 => 0xBFE02EC2#32
  | 17 => 0x4034DB72#32
  | 18 => 0x3F07EF12#32
  | 19 => 0x3FC0BF12#32
  | 20 => 0x4028A65C#32
  | 21 => 0xBCFFE49E#32
  | 22 => 0x3F3EA096#32
  | 23 => 0x3E4A81AC#32
  | 24 => 0x3E3B2D5E#32
  | 25 => 0xBF55B0A1#32
  | 26 => 0x3EA9892A#32
  | 27 => 0x3EFFB7A1#32
  | 28 => 0x3F26D18E#32
  | 29 => 0x3F63F1C4#32
  | 30 => 0xBE3A21F8#32
  | 31 => 0x3FE2FCBC#32
  | 32 => 0xBE22C94A#32
  | 33 => 0x3F17093C#32
  | 34 => 0x3EA6EDA2#32
  | 35 => 0xBD6160A4#32
  | 36 => 0x3F9CFD2E#32
  | 37 => 0x3F918246#32
  | 38 => 0x3D1E7AB7#32
  | 39 => 0x402656EB#32
  | 40 => 0x40212B00#32
  | 41 => 0x3FA24A64#32
  | 42 => 0x4002FFB5#32
  | 43 => 0x3F47B030#32
  | 44 => 0xBF5AF4F4#32
  | 45 => 0x401CDF84#32
  | 46 => 0x401BFCD6#32
  | 47 => 0x3E756363#32
  | 48 => 0xBF194DF9#32
  | 49 => 0x40472E2E#32
  | 50 => 0xBD8631DE#32
  | 51 => 0xBE9D756E#32
  | 52 => 0x3E7C7CD2#32
  | 53 => 0xBE8B76B8#32
  | 54 => 0xBD90DA60#32
  | 55 => 0x3E938426#32
  | 56 => 0x3FDC0E1A#32
  | 57 => 0xBF33DF9D#32
  | 58 => 0x3DFD78FD#32
  | 59 => 0x3F04215A#32
  | 60 => 0xBEA59DC5#32
  | 61 => 0x40796EAC#32
  | 62 => 0xBFABF6DB#32
  | 63 => 0xBDB6F272#32
  | 64 => 0x3EA2D47F#32
  | 65 => 0x3FB7D2E7#32
  | 66 => 0x3EC820A0#32
  | 67 => 0x3FA34941#32
  | 68 => 0x3F1B14F6#32
  | 69 => 0xBF0F85AF#32
  | 70 => 0x3F14126C#32
  | 71 => 0xBF902207#32
  | 72 => 0xBED2E24D#32
  | 73 => 0x3EB019B1#32
  | 74 => 0x40185D68#32
  | 75 => 0xBFA1F470#32
  | 76 => 0xBF008F9C#32
  | 77 => 0x3F537C01#32
  | 78 => 0xBF35F605#32
  | 79 => 0xBE1BA222#32
  | 80 => 0x3EF55A62#32
  | 81 => 0x3ED2625F#32
  | 82 => 0x3F049C2E#32
  | 83 => 0xBF91DEC8#32
  | 84 => 0xBF353015#32
  | 85 => 0x40A30A26#32
  | 86 => 0x3F0E02FE#32
  | 87 => 0xBE54202F#32
  | 88 => 0xBF47B2CF#32
  | 89 => 0x3F9D688D#32
  | 90 => 0x3FEA1F0C#32
  | 91 => 0x3F7CF9B8#32
  | 92 => 0x3FBC2A15#32
  | 93 => 0x3F5831C4#32
  | 94 => 0x3F58D073#32
  | 95 => 0xBBB65FD6#32
  | 96 => 0xBD104F7E#32
  | 97 => 0xBF707333#32
  | 98 => 0x404FE430#32
  | 99 => 0x3F3C27C0#32
  | 100 => 0x3D815ACE#32
  | 101 => 0x3F9B7334#32
  | 102 => 0x3EE5612F#32
  | 103 => 0x402702B4#32
  | 104 => 0xBCAF4706#32
  | 105 => 0x3FDB986A#32
  | 106 => 0xBEA96DA6#32
  | 107 => 0xBFC48306#32
  | 108 => 0x3FC8E4D3#32
  | 109 => 0x3D81C8C3#32
  | 110 => 0x3FC440F4#32
  | 111 => 0x3FFA18EE#32
  | 112 => 0x3C9362E4#32
  | 113 => 0xBF91E9A0#32
  | 114 => 0x3F57E40A#32
  | 115 => 0x3FF46849#32
  | 116 => 0x3F782C4C#32
  | 117 => 0x3F5F3CE2#32
  | 118 => 0xBEDB01CC#32
  | 119 => 0x3F1B72EE#32
  | 120 => 0x4059579C#32
  | 121 => 0x40003CDE#32
  | 122 => 0xBEB6415A#32
  | 123 => 0x3ED014C4#32
  | 124 => 0x3FC49B7D#32
  | 125 => 0xBE811E6F#32
  | 126 => 0x3E12352B#32
  | 127 => 0x3D5D4054#32
  | _ => 0#32

noncomputable abbrev lit0t0_317 (i : Nat) : BitVec 32 := match i % 128 with
  | 0 => 0xBF1C2BA6#32
  | 1 => 0xBF223D73#32
  | 2 => 0x3E032250#32
  | 3 => 0xBF3260E6#32
  | 4 => 0xBEDC6082#32
  | 5 => 0x3E3D1B4D#32
  | 6 => 0x3E773E8D#32
  | 7 => 0xBE5FE674#32
  | 8 => 0x3FA71CD1#32
  | 9 => 0xBF8DBB84#32
  | 10 => 0xBCB29CA2#32
  | 11 => 0xBF140C32#32
  | 12 => 0xBE9E8DCD#32
  | 13 => 0x3FAC6CE1#32
  | 14 => 0x3E28FF78#32
  | 15 => 0x4003E5BB#32
  | 16 => 0xBE8FA33D#32
  | 17 => 0x3FAE9CDF#32
  | 18 => 0x3E3BBC76#32
  | 19 => 0x3F8F37CB#32
  | 20 => 0x3F11DB40#32
  | 21 => 0xBE473780#32
  | 22 => 0x400ABAA0#32
  | 23 => 0x4087E94D#32
  | 24 => 0xBDA29ADD#32
  | 25 => 0x3F36D8DC#32
  | 26 => 0xBF47A83E#32
  | 27 => 0x3FD1C25E#32
  | 28 => 0x3F3DA3FB#32
  | 29 => 0x3FE53594#32
  | 30 => 0x3F162042#32
  | 31 => 0x406921F9#32
  | 32 => 0x3E4E00FA#32
  | 33 => 0xBC3E864F#32
  | 34 => 0x4016EFBA#32
  | 35 => 0xBF32BF01#32
  | 36 => 0x3EC36471#32
  | 37 => 0xBF5DB303#32
  | 38 => 0x3F64AFB3#32
  | 39 => 0xBEF5F3E0#32
  | 40 => 0x3EB7C208#32
  | 41 => 0x3F6407CE#32
  | 42 => 0x3D9EB31F#32
  | 43 => 0xBF093228#32
  | 44 => 0x3F520342#32
  | 45 => 0x3F9D8DBD#32
  | 46 => 0x40060D3A#32
  | 47 => 0x3F288F1C#32
  | 48 => 0x3F4574E3#32
  | 49 => 0x3F023CAE#32
  | 50 => 0x405083CF#32
  | 51 => 0x3ECE50CE#32
  | 52 => 0x40CA2CD9#32
  | 53 => 0x3F4C258C#32
  | 54 => 0x3EDF2B8F#32
  | 55 => 0xBF67FF02#32
  | 56 => 0x3E9C5AEC#32
  | 57 => 0x3FCEA3DA#32
  | 58 => 0x3FAF0B76#32
  | 59 => 0xBEC39535#32
  | 60 => 0x3FF153AA#32
  | 61 => 0xBFCDE821#32
  | 62 => 0xBE58D1F6#32
  | 63 => 0x3FCAEB5F#32
  | 64 => 0xBFB608BA#32
  | 65 => 0xBF6023D3#32
  | 66 => 0x402F6E50#32
  | 67 => 0xBF27A01E#32
  | 68 => 0x3EE22B95#32
  | 69 => 0x3F75B42C#32
  | 70 => 0xBE301203#32
  | 71 => 0x40038D06#32
  | 72 => 0x3EE5310D#32
  | 73 => 0x3FA0ABF1#32
  | 74 => 0x3F6472AC#32
  | 75 => 0x3F702635#32
  | 76 => 0xBEADA865#32
  | 77 => 0xBB389962#32
  | 78 => 0x3C51C1C6#32
  | 79 => 0x3E901B1C#32
  | 80 => 0xBF159C4F#32
  | 81 => 0x40184217#32
  | 82 => 0xBF6C9073#32
  | 83 => 0x40626F5A#32
  | 84 => 0xBF4D855E#32
  | 85 => 0x401379E3#32
  | 86 => 0xBE377346#32
  | 87 => 0x3F9B80ED#32
  | 88 => 0x3F5FED60#32
  | 89 => 0xBE8DBBF5#32
  | 90 => 0xBF6578A7#32
  | 91 => 0x405D83CF#32
  | 92 => 0x3F911B51#32
  | 93 => 0x3E87B6EB#32
  | 94 => 0x3FF7AF9D#32
  | 95 => 0xBCEA0746#32
  | 96 => 0xBED21892#32
  | 97 => 0xBE048F0F#32
  | 98 => 0xBF690788#32
  | 99 => 0xBF51C8A7#32
  | 100 => 0x3E6B772D#32
  | 101 => 0x3EE151D3#32
  | 102 => 0x3F8AF917#32
  | 103 => 0xBF996E1A#32
  | 104 => 0xBF87B09A#32
  | 105 => 0x3FA15EC3#32
  | 106 => 0x3F1ADA55#32
  | 107 => 0x4014BACE#32
  | 108 => 0xBE60050A#32
  | 109 => 0x3EB9F340#32
  | 110 => 0x40835A3C#32
  | 111 => 0x3F3BDA52#32
  | 112 => 0x3E7A3FF4#32
  | 113 => 0xBF4EF274#32
  | 114 => 0x3F3C79BB#32
  | 115 => 0xBE254993#32
  | 116 => 0xBF8C052E#32
  | 117 => 0xBE6B6B85#32
  | 118 => 0x3F8A8AA8#32
  | 119 => 0x3EBE3520#32
  | 120 => 0xBF3C1F61#32
  | 121 => 0xBF9D0BA9#32
  | 122 => 0x3E2268B1#32
  | 123 => 0xBF3E03CF#32
  | 124 => 0x40898F25#32
  | 125 => 0x3E8BD3BA#32
  | 126 => 0x3FC92B87#32
  | 127 => 0x3FEDF7AE#32
  | _ => 0#32

noncomputable abbrev lit0t0_318 (i : Nat) : BitVec 32 := match i % 128 with
  | 0 => 0xBEB4DF82#32
  | 1 => 0xBF5A5BF2#32
  | 2 => 0x3EA9792F#32
  | 3 => 0xBF5FD59F#32
  | 4 => 0xBFB81542#32
  | 5 => 0xBDF055E8#32
  | 6 => 0xBF12734F#32
  | 7 => 0x3F23BF1C#32
  | 8 => 0x3E85CC40#32
  | 9 => 0xBF759CD7#32
  | 10 => 0xBDB6B774#32
  | 11 => 0x40033C50#32
  | 12 => 0xBF837CC6#32
  | 13 => 0x3D5D4B47#32
  | 14 => 0x4041C812#32
  | 15 => 0x3F209E15#32
  | 16 => 0x3F83ECE2#32
  | 17 => 0x3F980218#32
  | 18 => 0xBF025532#32
  | 19 => 0x4053F154#32
  | 20 => 0x3E0E9E61#32
  | 21 => 0xBE2B6168#32
  | 22 => 0xBFBDFD9C#32
  | 23 => 0xBF8CDD25#32
  | 24 => 0xBF406790#32
  | 25 => 0x3F1D98CE#32
  | 26 => 0x3EF76F2C#32
  | 27 => 0xBF27B7A8#32
  | 28 => 0xBD71B6DE#32
  | 29 => 0x3FB9D677#32
  | 30 => 0xBF102ACB#32
  | 31 => 0x400BFA95#32
  | 32 => 0xBF100AB5#32
  | 33 => 0xBFB7F0DF#32
  | 34 => 0x40685684#32
  | 35 => 0x3F4FFE07#32
  | 36 => 0x3F83F264#32
  | 37 => 0x400C780A#32
  | 38 => 0x3FE0CEA4#32
  | 39 => 0xBE598C88#32
  | 40 => 0x3E007DCC#32
  | 41 => 0xBF7A3B5E#32
  | 42 => 0x3FC064BB#32
  | 43 => 0x3F93B8F8#32
  | 44 => 0x3F6DF608#32
  | 45 => 0x3EB3B48C#32
  | 46 => 0x3F0E6119#32
  | 47 => 0xBEBC97DA#32
  | 48 => 0xBC9C8C5F#32
  | 49 => 0x3D97BE6E#32
  | 50 => 0xBF70C066#32
  | 51 => 0x4018FA90#32
  | 52 => 0xBF04DE20#32
  | 53 => 0x3EA6D096#32
  | 54 => 0x3FC39AEA#32
  | 55 => 0x3F414069#32
  | 56 => 0xBEC819EF#32
  | 57 => 0x3F3B474F#32
  | 58 => 0xBE8F40A6#32
  | 59 => 0x3F9A5E73#32
  | 60 => 0x3EDA6A1F#32
  | 61 => 0xBF3D9944#32
  | 62 => 0xBF22580A#32
  | 63 => 0x4086054D#32
  | 64 => 0xBED7F9D8#32
  | 65 => 0x3F4C635D#32
  | 66 => 0x3EE55670#32
  | 67 => 0x400464F4#32
  | 68 => 0x3EA135A4#32
  | 69 => 0x3F5E6E6F#32
  | 70 => 0x3D587A70#32
  | 71 => 0x3E6D0BB1#32
  | 72 => 0xBF14C407#32
  | 73 => 0x40477DBE#32
  | 74 => 0x40778C38#32
  | 75 => 0x3ED47B84#32
  | 76 => 0x3F569DDE#32
  | 77 => 0xBEFD74E9#32
  | 78 => 0x3EDEB7F0#32
  | 79 => 0x3FFD0D54#32
  | 80 => 0x3F20977E#32
  | 81 => 0xBE48BFCD#32
  | 82 => 0x3C628B9E#32
  | 83 => 0xBE6A020B#32
  | 84 => 0x3FAC65CE#32
  | 85 => 0xBECC4C27#32
  | 86 => 0x40029EBB#32
  | 87 => 0x40285C31#32
  | 88 => 0x3FAE9777#32
  | 89 => 0xBFA226BB#32
  | 90 => 0x3E1B5106#32
  | 91 => 0x3F866EFC#32
  | 92 => 0xBF20F77E#32
  | 93 => 0x3F294A05#32
  | 94 => 0xBF195EFC#32
  | 95 => 0x3EFB092E#32
  | 96 => 0x3F6425C5#32
  | 97 => 0x3F62701A#32
  | 98 => 0x3F089415#32
  | 99 => 0xBF5297E6#32
  | 100 => 0x3F861131#32
  | 101 => 0xBF52B75E#32
  | 102 => 0xBF9F9F05#32
  | 103 => 0x3FF5A4E0#32
  | 104 => 0x3F605961#32
  | 105 => 0x3F6309E4#32
  | 106 => 0x3FF1DA76#32
  | 107 => 0xBE98AECC#32
  | 108 => 0xBEBF63B4#32
  | 109 => 0xBF51B195#32
  | 110 => 0xBF8AC88F#32
  | 111 => 0x3F9C1963#32
  | 112 => 0x3E4797D2#32
  | 113 => 0xBD9F73DF#32
  | 114 => 0x3E2F8C6E#32
  | 115 => 0xBE0C18BD#32
  | 116 => 0x404E018E#32
  | 117 => 0x3E3356DC#32
  | 118 => 0x3E97C6E9#32
  | 119 => 0x3FFAE20C#32
  | 120 => 0xBD8D4B5C#32
  | 121 => 0x4051921E#32
  | 122 => 0x3EFFD5A1#32
  | 123 => 0x3F68E82C#32
  | 124 => 0x3E5AA711#32
  | 125 => 0xBE232E75#32
  | 126 => 0xBE549CF0#32
  | 127 => 0xBF9208EE#32
  | _ => 0#32

noncomputable abbrev lit0t0_319 (i : Nat) : BitVec 32 := match i % 128 with
  | 0 => 0x402FCF59#32
  | 1 => 0xBE3359D9#32
  | 2 => 0x3F88F7FA#32
  | 3 => 0x4042AB44#32
  | 4 => 0x3FE0BFC6#32
  | 5 => 0x402103DC#32
  | 6 => 0x407BD8CC#32
  | 7 => 0x3FF3CD28#32
  | 8 => 0x3F98B686#32
  | 9 => 0x3FEE7A38#32
  | 10 => 0x3F4D5699#32
  | 11 => 0x3DF474FD#32
  | 12 => 0xBE560875#32
  | 13 => 0x3F10AFBB#32
  | 14 => 0x403653B4#32
  | 15 => 0x3F71635E#32
  | 16 => 0x3F9C1F1C#32
  | 17 => 0x406B9325#32
  | 18 => 0x3F714FD3#32
  | 19 => 0x3F3610AF#32
  | 20 => 0x3FBE0ED2#32
  | 21 => 0x40468D26#32
  | 22 => 0x3FC4CCCF#32
  | 23 => 0xBEBB409B#32
  | 24 => 0xBEC78414#32
  | 25 => 0x3EE3922E#32
  | 26 => 0x3FDE1E2E#32
  | 27 => 0x4018B95E#32
  | 28 => 0x3F99E75A#32
  | 29 => 0x3E3038B8#32
  | 30 => 0xBF3653F1#32
  | 31 => 0x3FFC33FD#32
  | 32 => 0x3F2CB03B#32
  | 33 => 0x4053AE82#32
  | 34 => 0x3F922DB0#32
  | 35 => 0x3EAE3A77#32
  | 36 => 0x3FF75559#32
  | 37 => 0x3F145C6D#32
  | 38 => 0xBF7AE120#32
  | 39 => 0x3F8254E9#32
  | 40 => 0xBD4CBBAA#32
  | 41 => 0xBEE7265D#32
  | 42 => 0x3F17A753#32
  | 43 => 0xBE17FAA0#32
  | 44 => 0x3FC4095C#32
  | 45 => 0x3ECCB7A6#32
  | 46 => 0x405BB8A7#32
  | 47 => 0x3F48819D#32
  | 48 => 0xBE7E5FF7#32
  | 49 => 0x3E2E9269#32
  | 50 => 0x400F06EE#32
  | 51 => 0x403513FC#32
  | 52 => 0x40092BED#32
  | 53 => 0x401D40CD#32
  | 54 => 0x3FD1632D#32
  | 55 => 0x3EB39CC5#32
  | 56 => 0x4079B7FF#32
  | 57 => 0x3FE6DEF5#32
  | 58 => 0xBFDD921A#32
  | 59 => 0x3F44BA92#32
  | 60 => 0x3F27DDB2#32
  | 61 => 0x3E60101E#32
  | 62 => 0xBF07BC54#32
  | 63 => 0x3FFEF40A#32
  | 64 => 0x3F9936F1#32
  | 65 => 0xBDC8D5DB#32
  | 66 => 0xBF08E465#32
  | 67 => 0x3F3C90FC#32
  | 68 => 0x3EBB39FF#32
  | 69 => 0xBF0CF86A#32
  | 70 => 0xBE33EFBB#32
  | 71 => 0x3F1216FC#32
  | 72 => 0x4097C3D6#32
  | 73 => 0x40201DBE#32
  | 74 => 0x3E2FF192#32
  | 75 => 0x40154579#32
  | 76 => 0x3F4E6B42#32
  | 77 => 0x3F0EAD37#32
  | 78 => 0x3F57A0B8#32
  | 79 => 0x40C52724#32
  | 80 => 0x3E446CA8#32
  | 81 => 0xBEE1A123#32
  | 82 => 0x3F431BB5#32
  | 83 => 0xBF37E6A9#32
  | 84 => 0xBED4130E#32
  | 85 => 0x3FB475CC#32
  | 86 => 0xBE6E3ECE#32
  | 87 => 0x3F9026CF#32
  | 88 => 0x3F9F9721#32
  | 89 => 0xBE4A7E6C#32
  | 90 => 0x3E378852#32
  | 91 => 0xBE9A416A#32
  | 92 => 0xBF1F970F#32
  | 93 => 0xBDB6B432#32
  | 94 => 0x3F754866#32
  | 95 => 0x402ECDD8#32
  | 96 => 0xBF3EB022#32
  | 97 => 0x3DF65634#32
  | 98 => 0xBEC5073A#32
  | 99 => 0xBEB227BF#32
  | 100 => 0x4004B493#32
  | 101 => 0xBED94BF2#32
  | 102 => 0x3E8C8428#32
  | 103 => 0xBE218988#32
  | 104 => 0x40416B0D#32
  | 105 => 0x3F6E1BFD#32
  | 106 => 0x3F8B30BD#32
  | 107 => 0x400E9AF1#32
  | 108 => 0xBE6069D0#32
  | 109 => 0x3FA6DFC4#32
  | 110 => 0xBEAB7FE1#32
  | 111 => 0x3D2261B6#32
  | 112 => 0x4097B6F5#32
  | 113 => 0xBF9428E5#32
  | 114 => 0x3C0195D8#32
  | 115 => 0x3F88A779#32
  | 116 => 0x3F8EC1D0#32
  | 117 => 0xBF4315B9#32
  | 118 => 0x3E7BC2C3#32
  | 119 => 0x3F8F2DFE#32
  | 120 => 0xBEB2DBBB#32
  | 121 => 0xBD1FE6BC#32
  | 122 => 0xBEB32615#32
  | 123 => 0x3F1A3B7D#32
  | 124 => 0x3FBD30B0#32
  | 125 => 0xBF007BA0#32
  | 126 => 0x3F7FBB85#32
  | 127 => 0xBDB5366A#32
  | _ => 0#32

noncomputable abbrev lit0t0_320 (i : Nat) : BitVec 32 := match i % 128 with
  | 0 => 0xBF5D7E72#32
  | 1 => 0x3EFD5CDA#32
  | 2 => 0x3FA35DC1#32
  | 3 => 0x3FC11F5A#32
  | 4 => 0x3EBC4497#32
  | 5 => 0x3F93F68F#32
  | 6 => 0x4019BCEC#32
  | 7 => 0x4061BAAF#32
  | 8 => 0x3B76E8EC#32
  | 9 => 0xBCB2C638#32
  | 10 => 0x3F762D72#32
  | 11 => 0x3EBB7B7F#32
  | 12 => 0xBE6D3A71#32
  | 13 => 0x3F822342#32
  | 14 => 0x406CFA4E#32
  | 15 => 0xBF3E7DAE#32
  | 16 => 0x3F93A275#32
  | 17 => 0x4052EEF1#32
  | 18 => 0x3FCD7D59#32
  | 19 => 0xBE72586B#32
  | 20 => 0x3E39CEA0#32
  | 21 => 0xBE1D06FE#32
  | 22 => 0xBDE8DA32#32
  | 23 => 0xBF09C8A5#32
  | 24 => 0x3FD9FF82#32
  | 25 => 0xBC34AE84#32
  | 26 => 0x3E65AA03#32
  | 27 => 0x401846F9#32
  | 28 => 0xBF0060C8#32
  | 29 => 0xBF333538#32
  | 30 => 0x3F0B4135#32
  | 31 => 0x3E5FC08D#32
  | 32 => 0xBFBC5CE7#32
  | 33 => 0x406E8F72#32
  | 34 => 0xBF0904E5#32
  | 35 => 0x3FFD5538#32
  | 36 => 0xBF2BA28F#32
  | 37 => 0xBE22FBEE#32
  | 38 => 0x3F27BE28#32
  | 39 => 0xBF651D40#32
  | 40 => 0xBDB494B9#32
  | 41 => 0x3FFA9DB9#32
  | 42 => 0x404FC462#32
  | 43 => 0x3F6AE6BC#32
  | 44 => 0x3ED71CA1#32
  | 45 => 0xBD8F56B3#32
  | 46 => 0xBF690E79#32
  | 47 => 0x3EB46AC5#32
  | 48 => 0xBE61EE25#32
  | 49 => 0x406AC3B8#32
  | 50 => 0xBE215997#32
  | 51 => 0x3FE05180#32
  | 52 => 0x3E3A95B1#32
  | 53 => 0x3FDEA254#32
  | 54 => 0x3D09E2E9#32
  | 55 => 0xBCBC7296#32
  | 56 => 0x401C72F9#32
  | 57 => 0x3F064948#32
  | 58 => 0x3F32996C#32
  | 59 => 0xBE2F8075#32
  | 60 => 0x3F872BBC#32
  | 61 => 0x3EFD9950#32
  | 62 => 0x3F99EC96#32
  | 63 => 0x3EFD242F#32
  | 64 => 0xBEB3FCDB#32
  | 65 => 0x3F5B5967#32
  | 66 => 0x3F8A0F72#32
  | 67 => 0x3F088EAB#32
  | 68 => 0xBF2514F8#32
  | 69 => 0x3F02BD7C#32
  | 70 => 0x3F98B123#32
  | 71 => 0xBF1FCDB0#32
  | 72 => 0x3F2A444F#32
  | 73 => 0xBF47B192#32
  | 74 => 0x3E3078D0#32
  | 75 => 0x400167EB#32
  | 76 => 0x3FC510FC#32
  | 77 => 0x3F59D96C#32
  | 78 => 0x3EBA0A7F#32
  | 79 => 0xBF02245F#32
  | 80 => 0xBFC38F85#32
  | 81 => 0x3F1E94A0#32
  | 82 => 0x3F340851#32
  | 83 => 0x3F62AE4D#32
  | 84 => 0xBF84C282#32
  | 85 => 0x3EC54CFD#32
  | 86 => 0xBE158ECA#32
  | 87 => 0xBF430335#32
  | 88 => 0x3EA50DD0#32
  | 89 => 0x4023C244#32
  | 90 => 0x4022DB6E#32
  | 91 => 0x3F83B8DA#32
  | 92 => 0x40552FB7#32
  | 93 => 0x3F3F3FFF#32
  | 94 => 0xBF512844#32
  | 95 => 0x405600D2#32
  | 96 => 0x3F6A0D90#32
  | 97 => 0x3E860069#32
  | 98 => 0x3EFAEBB8#32
  | 99 => 0x3F422673#32
  | 100 => 0x3F8B3846#32
  | 101 => 0x3F24F468#32
  | 102 => 0xBF981AD3#32
  | 103 => 0x3F36C4CA#32
  | 104 => 0xBD883C1A#32
  | 105 => 0x3F47C514#32
  | 106 => 0xBF84C2B2#32
  | 107 => 0xBF0F6625#32
  | 108 => 0x3FF7B11D#32
  | 109 => 0xBF7EE802#32
  | 110 => 0x40833FCB#32
  | 111 => 0xBF194F16#32
  | 112 => 0x3F98CA96#32
  | 113 => 0x40958B30#32
  | 114 => 0xBF263EBE#32
  | 115 => 0x3F0D874D#32
  | 116 => 0x3F2BDBFA#32
  | 117 => 0xBECAEB47#32
  | 118 => 0xBF277720#32
  | 119 => 0xBFDC9E40#32
  | 120 => 0xBF36F318#32
  | 121 => 0x3FDB9560#32
  | 122 => 0xBF8CC590#32
  | 123 => 0x3DDBBEB2#32
  | 124 => 0x3F3A2E30#32
  | 125 => 0x40516F69#32
  | 126 => 0x3D838433#32
  | 127 => 0x402F9908#32
  | _ => 0#32

noncomputable abbrev lit0t0_321 (i : Nat) : BitVec 32 := match i % 128 with
  | 0 => 0x3F81030A#32
  | 1 => 0x3FD84B08#32
  | 2 => 0x3F79BF58#32
  | 3 => 0x3F0385F4#32
  | 4 => 0xBF9E31D2#32
  | 5 => 0xBD72EFAE#32
  | 6 => 0x3F9898A8#32
  | 7 => 0x3F9E346A#32
  | 8 => 0xBE32CE54#32
  | 9 => 0x3B83C1B8#32
  | 10 => 0x3F02AD83#32
  | 11 => 0x3F2E0254#32
  | 12 => 0x3F238666#32
  | 13 => 0xBEEA2848#32
  | 14 => 0xBE198309#32
  | 15 => 0xBF458B4E#32
  | 16 => 0x3E992D9B#32
  | 17 => 0x3E357118#32
  | 18 => 0x3FB74390#32
  | 19 => 0x3FE2EE7B#32
  | 20 => 0x3F945282#32
  | 21 => 0xBF1F7642#32
  | 22 => 0x3F0ADB8A#32
  | 23 => 0xBEC29853#32
  | 24 => 0x40758DDE#32
  | 25 => 0x3E167205#32
  | 26 => 0x3F416C60#32
  | 27 => 0x3EDC2CAB#32
  | 28 => 0x40170BF7#32
  | 29 => 0x3EE3289A#32
  | 30 => 0x3E703843#32
  | 31 => 0xBF19A3D4#32
  | 32 => 0x3F4594C4#32
  | 33 => 0x3FAB24FD#32
  | 34 => 0x3F7468BE#32
  | 35 => 0xBF6679AF#32
  | 36 => 0x3F5B8379#32
  | 37 => 0x400127A9#32
  | 38 => 0xBF187AEA#32
  | 39 => 0xBF3B3D31#32
  | 40 => 0x3F84F138#32
  | 41 => 0xBEDF93C6#32
  | 42 => 0x3F45B43F#32
  | 43 => 0xBF80805E#32
  | 44 => 0x3FC08880#32
  | 45 => 0x3CDD3101#32
  | 46 => 0x3F1265FE#32
  | 47 => 0xBFC01A01#32
  | 48 => 0xBF673886#32
  | 49 => 0x3F69AF23#32
  | 50 => 0x3FC23D79#32
  | 51 => 0xBF4837A1#32
  | 52 => 0xBE5EC776#32
  | 53 => 0xBD62D501#32
  | 54 => 0xBF618C1D#32
  | 55 => 0xBC5A7C66#32
  | 56 => 0x3F4DCF00#32
  | 57 => 0xBF2840D6#32
  | 58 => 0x3FD7D608#32
  | 59 => 0x3F357019#32
  | 60 => 0x3F46331D#32
  | 61 => 0xBC363E11#32
  | 62 => 0x40105BE1#32
  | 63 => 0x400B1543#32
  | 64 => 0xBF1ED093#32
  | 65 => 0x3E3353EC#32
  | 66 => 0x3F9AC156#32
  | 67 => 0x3EB8111D#32
  | 68 => 0x401B6998#32
  | 69 => 0xBF8F57DE#32
  | 70 => 0xBFAAEEA2#32
  | 71 => 0xBE4226E9#32
  | 72 => 0xBEAEE64C#32
  | 73 => 0x3F856360#32
  | 74 => 0x3E893741#32
  | 75 => 0x3F108854#32
  | 76 => 0xBED951A6#32
  | 77 => 0x3D1AFF2E#32
  | 78 => 0x40C5AC65#32
  | 79 => 0x3F6F6720#32
  | 80 => 0x4089538A#32
  | 81 => 0x3EC08329#32
  | 82 => 0x3EDB54A3#32
  | 83 => 0x3EC0555B#32
  | 84 => 0x3F66BA11#32
  | 85 => 0x3FA16E6C#32
  | 86 => 0xBFA2ACD8#32
  | 87 => 0xBEAA080B#32
  | 88 => 0x3F13B0A1#32
  | 89 => 0x3D919C54#32
  | 90 => 0xBF478460#32
  | 91 => 0xBE047C5D#32
  | 92 => 0xBF5CFA1E#32
  | 93 => 0x3F0CA85B#32
  | 94 => 0x3F381BF2#32
  | 95 => 0x3EEB6DC8#32
  | 96 => 0x3EE2738D#32
  | 97 => 0x3FB7851A#32
  | 98 => 0x3F1F5877#32
  | 99 => 0x3FA12908#32
  | 100 => 0xBF1F2E1B#32
  | 101 => 0xBF2FF874#32
  | 102 => 0xBF1901D7#32
  | 103 => 0xBEDC92EE#32
  | 104 => 0x3FC19D64#32
  | 105 => 0xBF427673#32
  | 106 => 0x407D5328#32
  | 107 => 0x3E76DE79#32
  | 108 => 0x405AA355#32
  | 109 => 0x3E107100#32
  | 110 => 0xBE3CD9BB#32
  | 111 => 0x3FCF42E0#32
  | 112 => 0xBF88E002#32
  | 113 => 0x3FDAA3D9#32
  | 114 => 0x3FB7D54D#32
  | 115 => 0xBFA25200#32
  | 116 => 0xBEF247E2#32
  | 117 => 0x402AE913#32
  | 118 => 0xBE432F0C#32
  | 119 => 0x3F117A75#32
  | 120 => 0x3F9C7C2F#32
  | 121 => 0xBF89E2D7#32
  | 122 => 0x3F8BB865#32
  | 123 => 0x3EB344F4#32
  | 124 => 0x3F00269C#32
  | 125 => 0x3E2C8E31#32
  | 126 => 0x3FD40CB6#32
  | 127 => 0x3F1EC79A#32
  | _ => 0#32

noncomputable abbrev lit0t0_322 (i : Nat) : BitVec 32 := match i % 128 with
  | 0 => 0xBF5319D0#32
  | 1 => 0xBF62D76A#32
  | 2 => 0x3D2BA14E#32
  | 3 => 0x3F32C7E1#32
  | 4 => 0x3FD49EB9#32
  | 5 => 0x3D85C47F#32
  | 6 => 0x3DF2ABC0#32
  | 7 => 0x3EEC7561#32
  | 8 => 0x3F1DF9FC#32
  | 9 => 0xBF11A076#32
  | 10 => 0x4050EF01#32
  | 11 => 0x3FA89E35#32
  | 12 => 0x3FB1C196#32
  | 13 => 0xBF560532#32
  | 14 => 0xBF19FAD1#32
  | 15 => 0xBEC8F100#32
  | 16 => 0xBF76C176#32
  | 17 => 0x3F0A665D#32
  | 18 => 0x3FD35C8C#32
  | 19 => 0x3F352BCE#32
  | 20 => 0xBD7E3561#32
  | 21 => 0xBE80797D#32
  | 22 => 0xBEE23B6B#32
  | 23 => 0x3FAC24D2#32
  | 24 => 0x3E6DCDFF#32
  | 25 => 0x3E900DD1#32
  | 26 => 0x3F2D94D3#32
  | 27 => 0x3F8E839F#32
  | 28 => 0x3B1FC0CE#32
  | 29 => 0xBF82F75A#32
  | 30 => 0x3EE1C21C#32
  | 31 => 0x3F338441#32
  | 32 => 0x3B9CBBCE#32
  | 33 => 0xBF2DCB2A#32
  | 34 => 0x3F4A305A#32
  | 35 => 0xBF5883ED#32
  | 36 => 0x3FFB7F95#32
  | 37 => 0x3FD7E300#32
  | 38 => 0xBF01509A#32
  | 39 => 0xBF8F93A6#32
  | 40 => 0x3F02C376#32
  | 41 => 0xBF85F527#32
  | 42 => 0xBE8A4415#32
  | 43 => 0x3F70EB21#32
  | 44 => 0x3EDD6604#32
  | 45 => 0xBF60135C#32
  | 46 => 0xBFA49A68#32
  | 47 => 0xBF122130#32
  | 48 => 0x40262F83#32
  | 49 => 0x4011599A#32
  | 50 => 0x404929F4#32
  | 51 => 0xBF0AEAEA#32
  | 52 => 0x3F8D1677#32
  | 53 => 0x3F6A7916#32
  | 54 => 0xBE1DBBE1#32
  | 55 => 0xBEE09CAA#32
  | 56 => 0xBEA863D0#32
  | 57 => 0x3F8BDD8E#32
  | 58 => 0x3F9F4803#32
  | 59 => 0xBE36D4E9#32
  | 60 => 0x3F0C1760#32
  | 61 => 0xBF4FBDA0#32
  | 62 => 0x3E98E65A#32
  | 63 => 0x3FF620E0#32
  | 64 => 0xBEBA4D73#32
  | 65 => 0x3EFC69EC#32
  | 66 => 0x3E252F6D#32
  | 67 => 0x3E922DF8#32
  | 68 => 0xBF000D79#32
  | 69 => 0x3EDE37CD#32
  | 70 => 0xBF901CE9#32
  | 71 => 0xBF6D4B0F#32
  | 72 => 0xBFA6CE8B#32
  | 73 => 0xBFC0DC46#32
  | 74 => 0x3E5C4410#32
  | 75 => 0x3F8988D9#32
  | 76 => 0xBE81B07B#32
  | 77 => 0xBEBD43D4#32
  | 78 => 0x3F459025#32
  | 79 => 0x403D4145#32
  | 80 => 0x3E188E8B#32
  | 81 => 0xBD9A6A9D#32
  | 82 => 0xBE64468A#32
  | 83 => 0x3FB21136#32
  | 84 => 0x3E4D3F80#32
  | 85 => 0x3F253F97#32
  | 86 => 0xBE47D620#32
  | 87 => 0xBF81EECE#32
  | 88 => 0xBD634026#32
  | 89 => 0x3F8FBEF6#32
  | 90 => 0x3EF62A7E#32
  | 91 => 0xBF81C95A#32
  | 92 => 0x3F2DBF5B#32
  | 93 => 0xBEBE5DF9#32
  | 94 => 0xBEAE40CE#32
  | 95 => 0x3F96BDE3#32
  | 96 => 0x3FC06C3C#32
  | 97 => 0x3F08B7CA#32
  | 98 => 0x3FE7A43E#32
  | 99 => 0xBF83A10B#32
  | 100 => 0xBEF03B08#32
  | 101 => 0x3FBE49D6#32
  | 102 => 0xBE3FBF7E#32
  | 103 => 0xBF3D8B50#32
  | 104 => 0xBF590AF1#32
  | 105 => 0x401A6FEE#32
  | 106 => 0xBEF37B72#32
  | 107 => 0xBB9F5F9F#32
  | 108 => 0xBD837A0F#32
  | 109 => 0xBFABED73#32
  | 110 => 0x3FC18B03#32
  | 111 => 0x400D3264#32
  | 112 => 0x3F729A86#32
  | 113 => 0x3FAFC951#32
  | 114 => 0x405E483D#32
  | 115 => 0x400410EF#32
  | 116 => 0xBE2E0948#32
  | 117 => 0x3FB63F68#32
  | 118 => 0x3FACBB02#32
  | 119 => 0x3F2A1124#32
  | 120 => 0x40D2E687#32
  | 121 => 0x3FDDECD4#32
  | 122 => 0x3EBF0D06#32
  | 123 => 0xBED0883A#32
  | 124 => 0x3D7B4C13#32
  | 125 => 0xBE76EC03#32
  | 126 => 0x3FEF4D54#32
  | 127 => 0xBFADE5CE#32
  | _ => 0#32

noncomputable abbrev lit0t0_323 (i : Nat) : BitVec 32 := match i % 128 with
  | 0 => 0x406096D4#32
  | 1 => 0x40201AB7#32
  | 2 => 0xBEE067BE#32
  | 3 => 0x3E7AC0ED#32
  | 4 => 0x400CE0CB#32
  | 5 => 0x3F001EF2#32
  | 6 => 0x3FE814B0#32
  | 7 => 0xBDC3D78A#32
  | 8 => 0x40B49670#32
  | 9 => 0x3FED4E64#32
  | 10 => 0x400EC57F#32
  | 11 => 0x3E536407#32
  | 12 => 0x3F62B734#32
  | 13 => 0x3F436BFB#32
  | 14 => 0x4056ECDE#32
  | 15 => 0x40485134#32
  | 16 => 0x3F327E14#32
  | 17 => 0xBDA0B968#32
  | 18 => 0x400D64B2#32
  | 19 => 0x404E5040#32
  | 20 => 0x3FA7E7E1#32
  | 21 => 0x3F90FAA0#32
  | 22 => 0xBF8F1F02#32
  | 23 => 0x3F10B4B4#32
  | 24 => 0x3DD81953#32
  | 25 => 0x3F27291A#32
  | 26 => 0x3F3F8AD7#32
  | 27 => 0x3FC06327#32
  | 28 => 0xBFAEB799#32
  | 29 => 0xBF9893D4#32
  | 30 => 0xBE9A6B5C#32
  | 31 => 0x3D530CF9#32
  | 32 => 0x3F5973BB#32
  | 33 => 0x3E090FA6#32
  | 34 => 0x3FABD382#32
  | 35 => 0xBE00C83E#32
  | 36 => 0xBFBFABA6#32
  | 37 => 0xBD002DCB#32
  | 38 => 0xBEEADB84#32
  | 39 => 0x403DAFAD#32
  | 40 => 0xBCF5F11B#32
  | 41 => 0xBF48A7AC#32
  | 42 => 0x3F79ED95#32
  | 43 => 0x40156D35#32
  | 44 => 0x4065563A#32
  | 45 => 0x3E9D5B1D#32
  | 46 => 0x3F4F5A8D#32
  | 47 => 0x3D85331B#32
  | 48 => 0x3E7245E9#32
  | 49 => 0x3FEF1EEC#32
  | 50 => 0xBF2FABA5#32
  | 51 => 0xBF4572B5#32
  | 52 => 0x3FF00249#32
  | 53 => 0xBF30347C#32
  | 54 => 0x3ECE532E#32
  | 55 => 0x3F62C1DA#32
  | 56 => 0x3FC2DAFB#32
  | 57 => 0xBF49E003#32
  | 58 => 0x3E06EAB0#32
  | 59 => 0x3F10C8E7#32
  | 60 => 0xBE1CF508#32
  | 61 => 0x3DE028F0#32
  | 62 => 0x3E89AFAB#32
  | 63 => 0x402501E1#32
  | 64 => 0x3F1DDC1A#32
  | 65 => 0x3E876B22#32
  | 66 => 0x3E2F82CA#32
  | 67 => 0x3E86DCBE#32
  | 68 => 0x3E11D039#32
  | 69 => 0x3EFAC946#32
  | 70 => 0xBDF9B670#32
  | 71 => 0xBF8A0D78#32
  | 72 => 0x3F668C9F#32
  | 73 => 0x3F934700#32
  | 74 => 0x401C2D88#32
  | 75 => 0x3E94AB5D#32
  | 76 => 0xBF5639C6#32
  | 77 => 0x3F1B8CCC#32
  | 78 => 0x3F6DC63A#32
  | 79 => 0x3FE1B95E#32
  | 80 => 0x3F7DC436#32
  | 81 => 0xBFAC8A70#32
  | 82 => 0x3F9CE7D0#32
  | 83 => 0x3F766B48#32
  | 84 => 0xBE3A8EE3#32
  | 85 => 0xBF161FCB#32
  | 86 => 0x40214386#32
  | 87 => 0x3FA444AB#32
  | 88 => 0xBF2BBE9F#32
  | 89 => 0x3FB29D0A#32
  | 90 => 0x3F5E8415#32
  | 91 => 0x3F9248B6#32
  | 92 => 0x3F618051#32
  | 93 => 0x3E35536F#32
  | 94 => 0xBFB49A92#32
  | 95 => 0x3F58CBFA#32
  | 96 => 0x3F1FA724#32
  | 97 => 0x3F802212#32
  | 98 => 0xBF20C419#32
  | 99 => 0x3FC06BC6#32
  | 100 => 0x3FE2EFAE#32
  | 101 => 0x4040ECE4#32
  | 102 => 0x3E670AD2#32
  | 103 => 0x3D77218E#32
  | 104 => 0x40301862#32
  | 105 => 0x3F54E1E2#32
  | 106 => 0x3F2F1804#32
  | 107 => 0x3DCFD3E2#32
  | 108 => 0xBED0A59E#32
  | 109 => 0x3E4C23C7#32
  | 110 => 0x3F70D8B4#32
  | 111 => 0x3F05540C#32
  | 112 => 0xBF51071D#32
  | 113 => 0xBF9A79C9#32
  | 114 => 0x3F990CA6#32
  | 115 => 0xBEEBAEA5#32
  | 116 => 0x3DD37AF7#32
  | 117 => 0x3FB8BAFD#32
  | 118 => 0x4062C0D2#32
  | 119 => 0x405513B7#32
  | 120 => 0x3FE9198C#32
  | 121 => 0x3F5B9495#32
  | 122 => 0x3F8F639C#32
  | 123 => 0x3FA9EC65#32
  | 124 => 0x403834E5#32
  | 125 => 0x3FA83BE9#32
  | 126 => 0x3F715370#32
  | 127 => 0xBE8EA5A0#32
  | _ => 0#32

noncomputable abbrev lit0t0_324 (i : Nat) : BitVec 32 := match i % 128 with
  | 0 => 0x3F3B6FE0#32
  | 1 => 0xBF96BBD2#32
  | 2 => 0x3F396FE6#32
  | 3 => 0xBF40EB3A#32
  | 4 => 0xBB6B1FE5#32
  | 5 => 0x3E0CFAEA#32
  | 6 => 0xBF34C5ED#32
  | 7 => 0x3D67630F#32
  | 8 => 0x3F595478#32
  | 9 => 0x404F4936#32
  | 10 => 0x3E3DB381#32
  | 11 => 0xBF8223B0#32
  | 12 => 0x3EFFB226#32
  | 13 => 0x3F432B4B#32
  | 14 => 0xBF382C12#32
  | 15 => 0x3EB74289#32
  | 16 => 0xBE859EB3#32
  | 17 => 0x3CF6D6EA#32
  | 18 => 0x3DF268E0#32
  | 19 => 0x3F0EB9D2#32
  | 20 => 0x3FA599E9#32
  | 21 => 0x3F18CA80#32
  | 22 => 0xBF7466DE#32
  | 23 => 0x3F3C6BA4#32
  | 24 => 0x3E36F162#32
  | 25 => 0x3F494D1B#32
  | 26 => 0xBE3206D5#32
  | 27 => 0xBEA2D41E#32
  | 28 => 0xBEE0C6F3#32
  | 29 => 0xBE84471B#32
  | 30 => 0x40459FA9#32
  | 31 => 0xBED1B5A7#32
  | 32 => 0xBFD70E39#32
  | 33 => 0x3F30E057#32
  | 34 => 0x3F831BBB#32
  | 35 => 0x3F1E390E#32
  | 36 => 0xBF3B86C4#32
  | 37 => 0x3FA1548D#32
  | 38 => 0x4055AD1F#32
  | 39 => 0xBE899B83#32
  | 40 => 0x3F059CBE#32
  | 41 => 0x3FB206FC#32
  | 42 => 0x3FA93F46#32
  | 43 => 0xBF0C049A#32
  | 44 => 0x3E6BB3D9#32
  | 45 => 0xBEC2A830#32
  | 46 => 0x3FD9B8C7#32
  | 47 => 0x40135739#32
  | 48 => 0x3D55330C#32
  | 49 => 0x400CEF3B#32
  | 50 => 0xBD970B9E#32
  | 51 => 0x3FCDCC76#32
  | 52 => 0x3F644D40#32
  | 53 => 0x3E6DD5EB#32
  | 54 => 0x3EEDD2EB#32
  | 55 => 0xBF10F5A7#32
  | 56 => 0x3EEDF3FA#32
  | 57 => 0x3FEBC804#32
  | 58 => 0xBFC4531E#32
  | 59 => 0x3EB1288E#32
  | 60 => 0x3F5E8A92#32
  | 61 => 0x40269369#32
  | 62 => 0x3E8CFD9A#32
  | 63 => 0x3FB6CC9A#32
  | 64 => 0xBEE86278#32
  | 65 => 0xBEAE2DF3#32
  | 66 => 0xBF79D14C#32
  | 67 => 0x3D8C1165#32
  | 68 => 0xBED4727F#32
  | 69 => 0x3F317FD4#32
  | 70 => 0xBF602341#32
  | 71 => 0x3FF43C8F#32
  | 72 => 0x3EBA30EA#32
  | 73 => 0x3F8996FF#32
  | 74 => 0x3EA108BC#32
  | 75 => 0xBF306B0F#32
  | 76 => 0xBF131692#32
  | 77 => 0xBEB4392A#32
  | 78 => 0xBEE99724#32
  | 79 => 0x3FD5299B#32
  | 80 => 0xBEA48A2A#32
  | 81 => 0x400A94A5#32
  | 82 => 0xBFA0F8D3#32
  | 83 => 0x3FAF4488#32
  | 84 => 0x3F9270E0#32
  | 85 => 0x3F7607C6#32
  | 86 => 0xBF1905FF#32
  | 87 => 0x3FB9BB92#32
  | 88 => 0x402546C6#32
  | 89 => 0xBF5594E5#32
  | 90 => 0xBF89D8FC#32
  | 91 => 0xBE04E6B6#32
  | 92 => 0x3E601CE4#32
  | 93 => 0x3EA2D400#32
  | 94 => 0xBEBBE531#32
  | 95 => 0x4011C2C7#32
  | 96 => 0x3EAD0F65#32
  | 97 => 0x3F82DDCB#32
  | 98 => 0x3EBBBE2B#32
  | 99 => 0x400A2E4A#32
  | 100 => 0x3E284FA9#32
  | 101 => 0x3F0629F0#32
  | 102 => 0xBE769285#32
  | 103 => 0x3FFF7A0E#32
  | 104 => 0x3CFB4019#32
  | 105 => 0xBF21CFC9#32
  | 106 => 0x3E4A67D0#32
  | 107 => 0x3F9AB9E8#32
  | 108 => 0x4024B247#32
  | 109 => 0x3F3B2A0C#32
  | 110 => 0x3F30C37A#32
  | 111 => 0xBF21908F#32
  | 112 => 0xBF4C7F35#32
  | 113 => 0x3E87ECD5#32
  | 114 => 0x3E78A04B#32
  | 115 => 0xBEDBC6F4#32
  | 116 => 0xBF8EC872#32
  | 117 => 0xBF4CFF86#32
  | 118 => 0xBF8F0FC7#32
  | 119 => 0x3D38BAAD#32
  | 120 => 0x3E6B3682#32
  | 121 => 0xBE98FCF0#32
  | 122 => 0x4018187C#32
  | 123 => 0x3EA8B782#32
  | 124 => 0x3F87E8B4#32
  | 125 => 0xBF93D1F3#32
  | 126 => 0x3F5120DB#32
  | 127 => 0x3E06F642#32
  | _ => 0#32

noncomputable abbrev lit0t0_325 (i : Nat) : BitVec 32 := match i % 128 with
  | 0 => 0xBF843EF4#32
  | 1 => 0xBCC01E03#32
  | 2 => 0x3EA7DC8B#32
  | 3 => 0x3FBED76E#32
  | 4 => 0x3FBC2747#32
  | 5 => 0x3F49CD60#32
  | 6 => 0x403C1A9D#32
  | 7 => 0xBC9A623D#32
  | 8 => 0xBFBCAD46#32
  | 9 => 0x3F8EEAED#32
  | 10 => 0x3D903318#32
  | 11 => 0x3EC9BCDB#32
  | 12 => 0x3FE831F5#32
  | 13 => 0x3F4E0F94#32
  | 14 => 0xBCC27999#32
  | 15 => 0x3ECB1922#32
  | 16 => 0x4062972C#32
  | 17 => 0xBD8DE96B#32
  | 18 => 0x3D098572#32
  | 19 => 0x3FC9575A#32
  | 20 => 0xBE8CF53B#32
  | 21 => 0xBF012493#32
  | 22 => 0x3F8AF88A#32
  | 23 => 0xBFAD377A#32
  | 24 => 0x3FAE54E2#32
  | 25 => 0xBF541DE2#32
  | 26 => 0xBE99E8E6#32
  | 27 => 0x3FB2C3F7#32
  | 28 => 0x40AF8B1D#32
  | 29 => 0x3E848FDF#32
  | 30 => 0x3FB6BFF9#32
  | 31 => 0x3E850437#32
  | 32 => 0x3F59440F#32
  | 33 => 0x3EBFD5EC#32
  | 34 => 0x3E884A0E#32
  | 35 => 0x3FF3C796#32
  | 36 => 0xBF6644C6#32
  | 37 => 0x3EA43999#32
  | 38 => 0xBF59D24D#32
  | 39 => 0x3FA84D8D#32
  | 40 => 0x3E782B51#32
  | 41 => 0x3E0A15D3#32
  | 42 => 0x3E39AB99#32
  | 43 => 0x40250568#32
  | 44 => 0x3F2E3685#32
  | 45 => 0x3DDDE666#32
  | 46 => 0x3FB27412#32
  | 47 => 0xBFA2794A#32
  | 48 => 0x3FC06816#32
  | 49 => 0xBF80C44E#32
  | 50 => 0x401460A9#32
  | 51 => 0x3EFB40C6#32
  | 52 => 0xBF45B51D#32
  | 53 => 0x3FABD186#32
  | 54 => 0xBF403A0B#32
  | 55 => 0x3F395C6E#32
  | 56 => 0x408D13A7#32
  | 57 => 0x3FC1E6F0#32
  | 58 => 0x3F7250AA#32
  | 59 => 0x3A4B7C37#32
  | 60 => 0x3FA41C54#32
  | 61 => 0xBE463201#32
  | 62 => 0xBE15544B#32
  | 63 => 0xBF452CC8#32
  | 64 => 0x3F91C182#32
  | 65 => 0x3F842670#32
  | 66 => 0x3F086BDB#32
  | 67 => 0x3DDF1D86#32
  | 68 => 0xBE079FBE#32
  | 69 => 0x3F150D0B#32
  | 70 => 0x3F94B883#32
  | 71 => 0x3FCA4AF1#32
  | 72 => 0xBF018F32#32
  | 73 => 0xBF3C4254#32
  | 74 => 0x3F10C192#32
  | 75 => 0xBF2B9F9F#32
  | 76 => 0x3FA3B36E#32
  | 77 => 0x40548638#32
  | 78 => 0xBF05933E#32
  | 79 => 0x3F7B025E#32
  | 80 => 0x3FB5F08E#32
  | 81 => 0x3F06C552#32
  | 82 => 0x3EB19CAC#32
  | 83 => 0x3E6EE4FF#32
  | 84 => 0x3FB22E5C#32
  | 85 => 0xBF0B0658#32
  | 86 => 0x3F38E1C1#32
  | 87 => 0x4016D3C2#32
  | 88 => 0x3F560F22#32
  | 89 => 0xBF1C88D8#32
  | 90 => 0x407A68B5#32
  | 91 => 0xBF401930#32
  | 92 => 0xBED96E98#32
  | 93 => 0x3F85311D#32
  | 94 => 0xBF8F3D60#32
  | 95 => 0x3F4DD944#32
  | 96 => 0xBF8669B6#32
  | 97 => 0x4020FA23#32
  | 98 => 0x3F60697C#32
  | 99 => 0x3EFD92BF#32
  | 100 => 0x3F0C9A66#32
  | 101 => 0xBF116325#32
  | 102 => 0x3F35A4CA#32
  | 103 => 0x3FAF94EE#32
  | 104 => 0xBF32621F#32
  | 105 => 0xBE5C1318#32
  | 106 => 0x3F72BB85#32
  | 107 => 0x3DB1DDC2#32
  | 108 => 0x3FF31927#32
  | 109 => 0xBF4E703E#32
  | 110 => 0x3FA881A4#32
  | 111 => 0x3FC6AD29#32
  | 112 => 0x3F1EE4AE#32
  | 113 => 0xBF5B9F02#32
  | 114 => 0x3E47A142#32
  | 115 => 0xBF1E3453#32
  | 116 => 0x3CA0BB8B#32
  | 117 => 0x3F931993#32
  | 118 => 0xBF45C97C#32
  | 119 => 0x3F40F665#32
  | 120 => 0x3F9C95F0#32
  | 121 => 0x40B86A28#32
  | 122 => 0x3FB7856F#32
  | 123 => 0xBF4B1DF2#32
  | 124 => 0xBE281DB5#32
  | 125 => 0xBF9456B9#32
  | 126 => 0x400831FE#32
  | 127 => 0x3F2A1381#32
  | _ => 0#32

noncomputable abbrev lit0t0_326 (i : Nat) : BitVec 32 := match i % 128 with
  | 0 => 0x3F867EE8#32
  | 1 => 0x3F222103#32
  | 2 => 0x3F93E44D#32
  | 3 => 0x3F9ED91B#32
  | 4 => 0xBF4AA854#32
  | 5 => 0x3F5631D8#32
  | 6 => 0x4045B84A#32
  | 7 => 0xBF9211CF#32
  | 8 => 0x3FBEBDD7#32
  | 9 => 0x3F1D3900#32
  | 10 => 0xBF11399C#32
  | 11 => 0x3F98DD94#32
  | 12 => 0x3F0F7B3C#32
  | 13 => 0x4008083E#32
  | 14 => 0x3F6F8C77#32
  | 15 => 0x4004FDCC#32
  | 16 => 0xBF367071#32
  | 17 => 0x3F314B41#32
  | 18 => 0x401BCC0D#32
  | 19 => 0xBF9D8C8B#32
  | 20 => 0x3D1261D5#32
  | 21 => 0xBF0210F1#32
  | 22 => 0xBF5C24FC#32
  | 23 => 0xBEF73836#32
  | 24 => 0xBF2D1731#32
  | 25 => 0x3FA7CFF1#32
  | 26 => 0x3F086786#32
  | 27 => 0x3FE416FA#32
  | 28 => 0xBF429D21#32
  | 29 => 0x3EB9A322#32
  | 30 => 0x3F69F03B#32
  | 31 => 0x3FE2A790#32
  | 32 => 0x3FA2890E#32
  | 33 => 0x3FE310F2#32
  | 34 => 0xBE88967C#32
  | 35 => 0x3E12D9C5#32
  | 36 => 0xBE8AC3F0#32
  | 37 => 0x3F14920F#32
  | 38 => 0xBF3B06CC#32
  | 39 => 0xBCB84281#32
  | 40 => 0xBEA11268#32
  | 41 => 0x3F78EA22#32
  | 42 => 0x3EA4CC7A#32
  | 43 => 0x3FFA39AF#32
  | 44 => 0xBF872ECD#32
  | 45 => 0x408C0CAB#32
  | 46 => 0x3F981BFD#32
  | 47 => 0xBD896C37#32
  | 48 => 0xBDB067A5#32
  | 49 => 0xBF6CD0A1#32
  | 50 => 0x404AD618#32
  | 51 => 0xBF10C5F4#32
  | 52 => 0x3F63A058#32
  | 53 => 0x3F2F4285#32
  | 54 => 0x3E4E3FE8#32
  | 55 => 0x3F8E0372#32
  | 56 => 0x3F5D5E4F#32
  | 57 => 0x3FB40FC4#32
  | 58 => 0x402B067E#32
  | 59 => 0x3FB9AC66#32
  | 60 => 0xBF84EC60#32
  | 61 => 0xBED37AA9#32
  | 62 => 0xBF059338#32
  | 63 => 0x3FC01096#32
  | 64 => 0x3F3E55A5#32
  | 65 => 0xBF0FFAC4#32
  | 66 => 0x3FB83715#32
  | 67 => 0x3F88C092#32
  | 68 => 0x3F907482#32
  | 69 => 0xBEEF1DBA#32
  | 70 => 0xBFD960DD#32
  | 71 => 0xBC9B33BD#32
  | 72 => 0xBD4D0580#32
  | 73 => 0x3F24F2E0#32
  | 74 => 0x3F52A232#32
  | 75 => 0x3F5F16E9#32
  | 76 => 0xBE86388A#32
  | 77 => 0xBFBA67E3#32
  | 78 => 0xBEDA6BDC#32
  | 79 => 0xBE89E0E5#32
  | 80 => 0x40075CD7#32
  | 81 => 0x3FCE3245#32
  | 82 => 0x3F5A67EF#32
  | 83 => 0x3FB02B70#32
  | 84 => 0x3D277AE9#32
  | 85 => 0x3F17F12A#32
  | 86 => 0x3FB565B3#32
  | 87 => 0x3EDE66AE#32
  | 88 => 0x3FB4B6AF#32
  | 89 => 0x3D9AF7FD#32
  | 90 => 0x3F2520A9#32
  | 91 => 0xBEDC63EA#32
  | 92 => 0xBF3FC596#32
  | 93 => 0xBE6B1BB9#32
  | 94 => 0x3F60A31A#32
  | 95 => 0xBF027800#32
  | 96 => 0xBF63E0BE#32
  | 97 => 0x407C6ADB#32
  | 98 => 0x3FD386A8#32
  | 99 => 0xBDB5B558#32
  | 100 => 0xBF685CDE#32
  | 101 => 0x3E7115FB#32
  | 102 => 0x404E056B#32
  | 103 => 0x403F6937#32
  | 104 => 0x40CF8F20#32
  | 105 => 0x40A7AE1C#32
  | 106 => 0x3F40AE05#32
  | 107 => 0x4046CA66#32
  | 108 => 0x3F99D521#32
  | 109 => 0x3F2CDF63#32
  | 110 => 0xBECFCA38#32
  | 111 => 0xBF2DD9F7#32
  | 112 => 0x400EDE54#32
  | 113 => 0xBEAA7F28#32
  | 114 => 0xBF2465C0#32
  | 115 => 0x3F46403F#32
  | 116 => 0x3FD98196#32
  | 117 => 0xBF6CE38A#32
  | 118 => 0x3F2385FE#32
  | 119 => 0x3FE602A0#32
  | 120 => 0x3F901BDE#32
  | 121 => 0x3EDCB0A1#32
  | 122 => 0x3C8B9F61#32
  | 123 => 0x3F38E1B4#32
  | 124 => 0xBE91A10C#32
  | 125 => 0x3F8978CD#32
  | 126 => 0x4005AFC5#32
  | 127 => 0x3EAFF07C#32
  | _ => 0#32

noncomputable abbrev lit0t0_327 (i : Nat) : BitVec 32 := match i % 128 with
  | 0 => 0x40052D20#32
  | 1 => 0x3FEB176A#32
  | 2 => 0x3F943D9C#32
  | 3 => 0xBF125E0B#32
  | 4 => 0x3E3340F9#32
  | 5 => 0x3D8CCAAD#32
  | 6 => 0x3EA7E64D#32
  | 7 => 0x3FC0BC20#32
  | 8 => 0x3FD59FB6#32
  | 9 => 0x3D53D962#32
  | 10 => 0xBEEFFFD0#32
  | 11 => 0xBF84EF7A#32
  | 12 => 0x40850271#32
  | 13 => 0x3FDE87E8#32
  | 14 => 0x3FCD4E88#32
  | 15 => 0xBFA11EA1#32
  | 16 => 0xBF043E7E#32
  | 17 => 0x3D0C133A#32
  | 18 => 0x3F6CBCC0#32
  | 19 => 0x4014280F#32
  | 20 => 0x3F829D1C#32
  | 21 => 0x3F685F86#32
  | 22 => 0x3FA87EEB#32
  | 23 => 0x4080C380#32
  | 24 => 0x3E8D0D8F#32
  | 25 => 0x3FBBD3CF#32
  | 26 => 0xBEE485EF#32
  | 27 => 0x3FAE10AB#32
  | 28 => 0x3D7DE380#32
  | 29 => 0x3F9E08C8#32
  | 30 => 0x3D6E8706#32
  | 31 => 0x3FC1F87F#32
  | 32 => 0x3F33EE1E#32
  | 33 => 0x3EC4528D#32
  | 34 => 0x3FDB6364#32
  | 35 => 0x3ECA3335#32
  | 36 => 0xBDB9D139#32
  | 37 => 0x3FC22364#32
  | 38 => 0xBF83BB85#32
  | 39 => 0xBF05067C#32
  | 40 => 0xBF1F2E83#32
  | 41 => 0x4032358E#32
  | 42 => 0x3F4D5F24#32
  | 43 => 0x4010B7D3#32
  | 44 => 0xBE0DC29E#32
  | 45 => 0x3E8B6A17#32
  | 46 => 0x3FD9B241#32
  | 47 => 0xBF107133#32
  | 48 => 0x3F4B5C52#32
  | 49 => 0x3EA2A5BB#32
  | 50 => 0x3F940B27#32
  | 51 => 0xBE7D964B#32
  | 52 => 0x3F85C870#32
  | 53 => 0x3DC9DA17#32
  | 54 => 0xBF68BA07#32
  | 55 => 0x3E79CFC1#32
  | 56 => 0x3F6ECFCE#32
  | 57 => 0xBFDD73CA#32
  | 58 => 0x3FAB648A#32
  | 59 => 0x3D9DE6D5#32
  | 60 => 0x407E082A#32
  | 61 => 0xBF2A1A92#32
  | 62 => 0x40294E2F#32
  | 63 => 0x3ED2381D#32
  | 64 => 0xBEC60C13#32
  | 65 => 0x3FB8488B#32
  | 66 => 0x400C43AD#32
  | 67 => 0xBDE4FF6A#32
  | 68 => 0xBE8ECF81#32
  | 69 => 0xBE362377#32
  | 70 => 0xBF8DEBA0#32
  | 71 => 0xBF73218A#32
  | 72 => 0xBF00DF4C#32
  | 73 => 0xBEA35028#32
  | 74 => 0xBEF2EECC#32
  | 75 => 0x3E88EECA#32
  | 76 => 0x3F1CBC58#32
  | 77 => 0xBF8EF668#32
  | 78 => 0xBFA31CF9#32
  | 79 => 0x406D9A5F#32
  | 80 => 0xBD6BF246#32
  | 81 => 0x400BA1F9#32
  | 82 => 0x3F81105F#32
  | 83 => 0xBF68071C#32
  | 84 => 0x3FD4B38B#32
  | 85 => 0xBF2660CC#32
  | 86 => 0xBF31789C#32
  | 87 => 0xBF01A6C7#32
  | 88 => 0xBF811102#32
  | 89 => 0x3EBB07F8#32
  | 90 => 0x4058FD8F#32
  | 91 => 0x3F9A835F#32
  | 92 => 0xBF683AFB#32
  | 93 => 0x3FC44247#32
  | 94 => 0x400E0216#32
  | 95 => 0xBF81D3EE#32
  | 96 => 0x3E630511#32
  | 97 => 0x3C136880#32
  | 98 => 0xBE896A81#32
  | 99 => 0x4008B9F2#32
  | 100 => 0xBF8B163F#32
  | 101 => 0xBF182C80#32
  | 102 => 0xBF419314#32
  | 103 => 0x3E9D6036#32
  | 104 => 0x3F3988D7#32
  | 105 => 0xBE90FFD5#32
  | 106 => 0xBE3B3FBA#32
  | 107 => 0xBF3C1AA5#32
  | 108 => 0x3D073066#32
  | 109 => 0xBF1B9C21#32
  | 110 => 0x3DF1F2B2#32
  | 111 => 0x3E858AF2#32
  | 112 => 0x3E3AB52B#32
  | 113 => 0x3DD560FA#32
  | 114 => 0x3E4790D1#32
  | 115 => 0x405DD030#32
  | 116 => 0x3F9190A4#32
  | 117 => 0x3E65D1D4#32
  | 118 => 0xBDB4CC49#32
  | 119 => 0x3BCC1F6B#32
  | 120 => 0x3E134EA0#32
  | 121 => 0xBDCA17C5#32
  | 122 => 0x3F60868B#32
  | 123 => 0xBF5EF2D2#32
  | 124 => 0xBE62E7D3#32
  | 125 => 0x3E320EDF#32
  | 126 => 0x3F0C7F73#32
  | 127 => 0x3EBCC00F#32
  | _ => 0#32

noncomputable abbrev lit0t0_328 (i : Nat) : BitVec 32 := match i % 128 with
  | 0 => 0xBC61C7E8#32
  | 1 => 0x3F899536#32
  | 2 => 0xBFB78D11#32
  | 3 => 0xBECF41D0#32
  | 4 => 0xBE61BF39#32
  | 5 => 0xBF0ED17D#32
  | 6 => 0x4030999F#32
  | 7 => 0x3F246CF5#32
  | 8 => 0x3D82A6C0#32
  | 9 => 0xBF7D86D4#32
  | 10 => 0x3FF04AFD#32
  | 11 => 0xBEC96DB8#32
  | 12 => 0xBD81D484#32
  | 13 => 0x3F29EA64#32
  | 14 => 0x3D3CD823#32
  | 15 => 0x3EC3F6EB#32
  | 16 => 0x4027D24A#32
  | 17 => 0x3FBD0E8E#32
  | 18 => 0x3D105B62#32
  | 19 => 0x3F982044#32
  | 20 => 0x4095E321#32
  | 21 => 0xBEFDCB00#32
  | 22 => 0x3FD1DB9A#32
  | 23 => 0x3F8F232C#32
  | 24 => 0xBE151D23#32
  | 25 => 0x4049AEDB#32
  | 26 => 0x3E8CF606#32
  | 27 => 0xBFAADC85#32
  | 28 => 0xBEECF696#32
  | 29 => 0x40061C3B#32
  | 30 => 0x4025432E#32
  | 31 => 0x3D830C0D#32
  | 32 => 0x3EDDE423#32
  | 33 => 0x3EF44D52#32
  | 34 => 0xBD542943#32
  | 35 => 0xBF84E3D2#32
  | 36 => 0x3F453FF7#32
  | 37 => 0x3F81DC80#32
  | 38 => 0xBF843FC3#32
  | 39 => 0xBF4FDF56#32
  | 40 => 0x40504C11#32
  | 41 => 0x3F8DE9AC#32
  | 42 => 0x3F9A0CF0#32
  | 43 => 0x3F0E2B2C#32
  | 44 => 0xBED3552B#32
  | 45 => 0x3E580EE3#32
  | 46 => 0x3D30FCE3#32
  | 47 => 0x3E365F94#32
  | 48 => 0x3FB39899#32
  | 49 => 0xBFBE4F8D#32
  | 50 => 0x4014335F#32
  | 51 => 0x3ED9FB0D#32
  | 52 => 0x3F700BD0#32
  | 53 => 0xBE5396C5#32
  | 54 => 0x3E5907D7#32
  | 55 => 0x3FA1B0E5#32
  | 56 => 0xBF35B2C8#32
  | 57 => 0x400C2D77#32
  | 58 => 0x3F6F1F90#32
  | 59 => 0x400B14FE#32
  | 60 => 0x3FF5DAE4#32
  | 61 => 0x3FA6103C#32
  | 62 => 0x3FE468A7#32
  | 63 => 0x3F4969EA#32
  | 64 => 0xBE87908E#32
  | 65 => 0x3F57D21E#32
  | 66 => 0x3F377DFD#32
  | 67 => 0x3F61B757#32
  | 68 => 0x40982B56#32
  | 69 => 0x3F8449EC#32
  | 70 => 0xBF9335DE#32
  | 71 => 0xBEBE0681#32
  | 72 => 0xBEEF4072#32
  | 73 => 0x3F8110A2#32
  | 74 => 0x3E13ECFF#32
  | 75 => 0x3EC97669#32
  | 76 => 0xBF2E5C2F#32
  | 77 => 0x40164592#32
  | 78 => 0x3FC8F2A6#32
  | 79 => 0xBED9F7BC#32
  | 80 => 0x4012E4B4#32
  | 81 => 0xBE6A31C1#32
  | 82 => 0x3F4DDCEE#32
  | 83 => 0x3FC053FA#32
  | 84 => 0x3EEE5276#32
  | 85 => 0x40273234#32
  | 86 => 0x4009DD9A#32
  | 87 => 0x3FD3C181#32
  | 88 => 0xBE0EFA73#32
  | 89 => 0x3FC803B1#32
  | 90 => 0x4089FB3F#32
  | 91 => 0xBDC06D82#32
  | 92 => 0x3FF84461#32
  | 93 => 0x40153F83#32
  | 94 => 0x3D96DD68#32
  | 95 => 0x3F8C8767#32
  | 96 => 0xBF379DB7#32
  | 97 => 0xBD4DEE83#32
  | 98 => 0x40A9410C#32
  | 99 => 0x3E8273F5#32
  | 100 => 0x3FA114EB#32
  | 101 => 0x3F2D0AE0#32
  | 102 => 0x40692098#32
  | 103 => 0x4082FBF8#32
  | 104 => 0x40662AFF#32
  | 105 => 0x3F8517D5#32
  | 106 => 0xBFAB3AEC#32
  | 107 => 0x3EFF51CD#32
  | 108 => 0x3EE480E2#32
  | 109 => 0xBF6B8DDD#32
  | 110 => 0x3C1F195D#32
  | 111 => 0x3EBF08C5#32
  | 112 => 0xBCBD1E94#32
  | 113 => 0xBDB18AF9#32
  | 114 => 0xBF77AF38#32
  | 115 => 0x3F05CCE3#32
  | 116 => 0x3E33B7E8#32
  | 117 => 0x4074B8F7#32
  | 118 => 0x3F735A73#32
  | 119 => 0x3F101CBC#32
  | 120 => 0x400E3B17#32
  | 121 => 0x3E70D842#32
  | 122 => 0x3FD933CE#32
  | 123 => 0x3FA38470#32
  | 124 => 0x3FB34AA1#32
  | 125 => 0xBE3B78F4#32
  | 126 => 0x3F298E96#32
  | 127 => 0xBF985220#32
  | _ => 0#32

noncomputable abbrev lit0t0_329 (i : Nat) : BitVec 32 := match i % 128 with
  | 0 => 0xBE575EB7#32
  | 1 => 0xBF2A1F98#32
  | 2 => 0xBD4541CB#32
  | 3 => 0xBFC22C2E#32
  | 4 => 0xBF8DD508#32
  | 5 => 0xBEAAF8C2#32
  | 6 => 0x3F9CA918#32
  | 7 => 0xBF642DA3#32
  | 8 => 0x3DB4A069#32
  | 9 => 0x402AC8D7#32
  | 10 => 0x3FB19BE0#32
  | 11 => 0x3F5CBC22#32
  | 12 => 0x40186F99#32
  | 13 => 0x3F959C0F#32
  | 14 => 0xBF2481AA#32
  | 15 => 0xBDCD01FB#32
  | 16 => 0x3FDE8B97#32
  | 17 => 0x3F894E1D#32
  | 18 => 0x3F5F6F4E#32
  | 19 => 0xBF39DC4E#32
  | 20 => 0xBF54EE8D#32
  | 21 => 0x403A6D9B#32
  | 22 => 0x3F64A65B#32
  | 23 => 0x3F3D568D#32
  | 24 => 0xBF071EEE#32
  | 25 => 0xBE91027E#32
  | 26 => 0x3ED1110C#32
  | 27 => 0x40897AB2#32
  | 28 => 0x3CC2B40B#32
  | 29 => 0xBFD2AAB2#32
  | 30 => 0xBF6E01AB#32
  | 31 => 0x3F7883C2#32
  | 32 => 0x3FB259F6#32
  | 33 => 0xBEE8FC3A#32
  | 34 => 0x3E8B465E#32
  | 35 => 0x3CA22497#32
  | 36 => 0xBF80BC2A#32
  | 37 => 0x403F9ABE#32
  | 38 => 0xBEE9C33E#32
  | 39 => 0xBF2DDA23#32
  | 40 => 0x401524A5#32
  | 41 => 0xBF419FE4#32
  | 42 => 0xBF30CB9C#32
  | 43 => 0x40532D00#32
  | 44 => 0x3F05F7AA#32
  | 45 => 0x406043C4#32
  | 46 => 0x3F2C18E7#32
  | 47 => 0x400C3B6E#32
  | 48 => 0x40631988#32
  | 49 => 0x3E547439#32
  | 50 => 0x3D3EE180#32
  | 51 => 0xBD357C76#32
  | 52 => 0x3F972ABD#32
  | 53 => 0xBEFEC00D#32
  | 54 => 0x3FCCB20C#32
  | 55 => 0x40D2ECF0#32
  | 56 => 0x3F7BB7E8#32
  | 57 => 0x3F37A647#32
  | 58 => 0x3F0AD5F0#32
  | 59 => 0x3E8408C0#32
  | 60 => 0x3FBE87A1#32
  | 61 => 0x3F2D5FE9#32
  | 62 => 0x3F90B5F8#32
  | 63 => 0xBF19C218#32
  | 64 => 0x3FD14370#32
  | 65 => 0x3EA2816A#32
  | 66 => 0x40131869#32
  | 67 => 0xBEA36C64#32
  | 68 => 0x404545F6#32
  | 69 => 0x40081A56#32
  | 70 => 0x3F0B0EB1#32
  | 71 => 0x3E423A1F#32
  | 72 => 0x40294395#32
  | 73 => 0x3FD59DEF#32
  | 74 => 0xBEBC5B7E#32
  | 75 => 0xBF3EF9A9#32
  | 76 => 0xBD914117#32
  | 77 => 0x3FB0B676#32
  | 78 => 0x3D3DEB95#32
  | 79 => 0xBE1C1A42#32
  | 80 => 0x3FFB6382#32
  | 81 => 0xBF3168AD#32
  | 82 => 0xBF9EF775#32
  | 83 => 0x3E31FED9#32
  | 84 => 0x3FF8BE04#32
  | 85 => 0x3F07A6F0#32
  | 86 => 0xBE805CA5#32
  | 87 => 0x3E8A581C#32
  | 88 => 0x3FD80CF8#32
  | 89 => 0x3FC6BC87#32
  | 90 => 0xBF081A48#32
  | 91 => 0x3F734D10#32
  | 92 => 0x407CF174#32
  | 93 => 0xBE58E0ED#32
  | 94 => 0x3FEF744E#32
  | 95 => 0x3F326C38#32
  | 96 => 0x3ECAEEAC#32
  | 97 => 0xBF263D38#32
  | 98 => 0x3F6E7FE7#32
  | 99 => 0x3FC68B07#32
  | 100 => 0x3E71AF49#32
  | 101 => 0x3F21303A#32
  | 102 => 0xBECDEAA6#32
  | 103 => 0x3F9BA5BB#32
  | 104 => 0x3F024CB0#32
  | 105 => 0x3F875CC0#32
  | 106 => 0xBFD28650#32
  | 107 => 0xBF20E223#32
  | 108 => 0x3F0D9870#32
  | 109 => 0x3F04E215#32
  | 110 => 0x3EF6D780#32
  | 111 => 0xBF4CA16E#32
  | 112 => 0xBF9775D8#32
  | 113 => 0x3D9C59FF#32
  | 114 => 0x3F39E81D#32
  | 115 => 0x3ED1D465#32
  | 116 => 0x3EA1C08D#32
  | 117 => 0x3D34DC96#32
  | 118 => 0xBF99E085#32
  | 119 => 0x3FD323FD#32
  | 120 => 0x400693F8#32
  | 121 => 0x3F279785#32
  | 122 => 0x3EAA2D83#32
  | 123 => 0x40556332#32
  | 124 => 0xBE7380B1#32
  | 125 => 0x3FFD47B8#32
  | 126 => 0x39967586#32
  | 127 => 0x3FB649CF#32
  | _ => 0#32

noncomputable abbrev lit0t0_330 (i : Nat) : BitVec 32 := match i % 128 with
  | 0 => 0x3DAD6F17#32
  | 1 => 0x3F557770#32
  | 2 => 0x3FBF68CB#32
  | 3 => 0x3EE34981#32
  | 4 => 0x40597CC8#32
  | 5 => 0xBE1699B8#32
  | 6 => 0x3E29647F#32
  | 7 => 0xBE82969E#32
  | 8 => 0xBF1811A2#32
  | 9 => 0x3E91CBDB#32
  | 10 => 0x3F28612E#32
  | 11 => 0x3EB77E86#32
  | 12 => 0xBDC4B6A9#32
  | 13 => 0xBF02CB63#32
  | 14 => 0x3F165E05#32
  | 15 => 0x3EB88F32#32
  | 16 => 0x3EA477E3#32
  | 17 => 0x40A20C66#32
  | 18 => 0x4035977E#32
  | 19 => 0x3FD07D01#32
  | 20 => 0x40B651F4#32
  | 21 => 0x3F3FD60B#32
  | 22 => 0xBE7BD719#32
  | 23 => 0x3DF9DAD5#32
  | 24 => 0x3FA094AD#32
  | 25 => 0xBE9CDBB0#32
  | 26 => 0xBF8F3D22#32
  | 27 => 0xBD4C4240#32
  | 28 => 0xBE105E8F#32
  | 29 => 0xBDD55DBE#32
  | 30 => 0xBF279A47#32
  | 31 => 0x3E77ABFB#32
  | 32 => 0x3FF05BDC#32
  | 33 => 0x40297114#32
  | 34 => 0x3FB734DD#32
  | 35 => 0xBF24D7B6#32
  | 36 => 0x3C57937B#32
  | 37 => 0xBF5DC9C9#32
  | 38 => 0xBEA6F0BD#32
  | 39 => 0x3E9D646A#32
  | 40 => 0xBF2D338E#32
  | 41 => 0x3F8D7936#32
  | 42 => 0x3FCB6AF6#32
  | 43 => 0xBE48D138#32
  | 44 => 0xBCAACA4B#32
  | 45 => 0xBE2F6A1B#32
  | 46 => 0x3F41E3D5#32
  | 47 => 0x3F93BCF9#32
  | 48 => 0xBE972039#32
  | 49 => 0x3F2C0B90#32
  | 50 => 0x4011E7FB#32
  | 51 => 0x3F2E8856#32
  | 52 => 0x3F116CBB#32
  | 53 => 0x3E4B3E37#32
  | 54 => 0x3F304134#32
  | 55 => 0xBF801A68#32
  | 56 => 0x3ED18624#32
  | 57 => 0xBEEC4908#32
  | 58 => 0x3DA84235#32
  | 59 => 0x403AFC60#32
  | 60 => 0x3FCD9CE3#32
  | 61 => 0x3F30861B#32
  | 62 => 0x400C7478#32
  | 63 => 0x3E418AAB#32
  | 64 => 0x3FBEE541#32
  | 65 => 0xBF8C74D6#32
  | 66 => 0x3FEF1048#32
  | 67 => 0x3EB52086#32
  | 68 => 0x3F94B435#32
  | 69 => 0x3D50D66B#32
  | 70 => 0xBF3CD8CA#32
  | 71 => 0xBE861D8B#32
  | 72 => 0x40174358#32
  | 73 => 0x3FE60EDD#32
  | 74 => 0x3FD03390#32
  | 75 => 0x3F162434#32
  | 76 => 0x40661F11#32
  | 77 => 0x3F15B22A#32
  | 78 => 0x4038E1EC#32
  | 79 => 0xBDA7C2A1#32
  | 80 => 0xBC4D640C#32
  | 81 => 0xBEF8D8F2#32
  | 82 => 0x40574994#32
  | 83 => 0x3E877A90#32
  | 84 => 0x3D2FB5A9#32
  | 85 => 0xBF93CB7B#32
  | 86 => 0xBDFC2C0E#32
  | 87 => 0xBF39378B#32
  | 88 => 0x3F8E4159#32
  | 89 => 0xBDEB9EB8#32
  | 90 => 0x3F33B268#32
  | 91 => 0x3EEA3C7E#32
  | 92 => 0x3ECDC2A9#32
  | 93 => 0x400409E1#32
  | 94 => 0x3F9F8B0D#32
  | 95 => 0x3E366A72#32
  | 96 => 0x3F90BCDA#32
  | 97 => 0xBE2AC5F4#32
  | 98 => 0xBF66C513#32
  | 99 => 0x3F05EE51#32
  | 100 => 0x3EF41F6D#32
  | 101 => 0x40586E27#32
  | 102 => 0x3A89EE92#32
  | 103 => 0x3F83CFDC#32
  | 104 => 0x3F79597E#32
  | 105 => 0xBF16F48C#32
  | 106 => 0x40108AC0#32
  | 107 => 0x40A25375#32
  | 108 => 0x3F833190#32
  | 109 => 0x3FB3CD2D#32
  | 110 => 0x3F2F14E4#32
  | 111 => 0x3F93EF2A#32
  | 112 => 0x3F8AEC54#32
  | 113 => 0x3F9CA133#32
  | 114 => 0x3F854ED4#32
  | 115 => 0xBF32E2EE#32
  | 116 => 0x3F569E43#32
  | 117 => 0xBF00168C#32
  | 118 => 0x3B85D3DE#32
  | 119 => 0x3F3456AA#32
  | 120 => 0x3F25F33D#32
  | 121 => 0xBEC371FE#32
  | 122 => 0xBCC16D09#32
  | 123 => 0xBF297D8E#32
  | 124 => 0xBF25E958#32
  | 125 => 0x3E8D542E#32
  | 126 => 0x4081A4F1#32
  | 127 => 0xBEB4F8C2#32
  | _ => 0#32

noncomputable abbrev lit0t0_331 (i : Nat) : BitVec 32 := match i % 128 with
  | 0 => 0x3F032684#32
  | 1 => 0xBDFBC02E#32
  | 2 => 0x3F860F22#32
  | 3 => 0x3FEDF58B#32
  | 4 => 0xBE695446#32
  | 5 => 0x3F5A71AD#32
  | 6 => 0xBE67972C#32
  | 7 => 0xBE781A2D#32
  | 8 => 0xBF1E3088#32
  | 9 => 0xBE3CAC82#32
  | 10 => 0x3E780B90#32
  | 11 => 0x3F170277#32
  | 12 => 0xBEB42A17#32
  | 13 => 0x4042141C#32
  | 14 => 0xBF0DE5FF#32
  | 15 => 0x3F6E294C#32
  | 16 => 0xBEF797C6#32
  | 17 => 0x3BE56D21#32
  | 18 => 0x3F740A90#32
  | 19 => 0xBF5F2F54#32
  | 20 => 0xBFBF700E#32
  | 21 => 0x3ED8C37D#32
  | 22 => 0x40D79E4E#32
  | 23 => 0xBF3F0B1E#32
  | 24 => 0x3F02799E#32
  | 25 => 0xBEEF8FA8#32
  | 26 => 0xBF94FC1E#32
  | 27 => 0xBEAD2A3D#32
  | 28 => 0x3DB4B074#32
  | 29 => 0xBF3DAA98#32
  | 30 => 0x405F34BE#32
  | 31 => 0x3F936059#32
  | 32 => 0xBEAFFD29#32
  | 33 => 0xBF47C6FF#32
  | 34 => 0x3F6A29E2#32
  | 35 => 0x400A8970#32
  | 36 => 0xBF30F189#32
  | 37 => 0xBF5151D0#32
  | 38 => 0xBFB16159#32
  | 39 => 0xBE34C1AE#32
  | 40 => 0x3EABE612#32
  | 41 => 0xBF2F60CF#32
  | 42 => 0x4045D55C#32
  | 43 => 0x3ECD19E6#32
  | 44 => 0x3F3A1861#32
  | 45 => 0x3EB6DBAB#32
  | 46 => 0x3F0EA985#32
  | 47 => 0x3FD2C6B8#32
  | 48 => 0x3F9F0AB6#32
  | 49 => 0xBDC69D58#32
  | 50 => 0x3FA2E715#32
  | 51 => 0x40867553#32
  | 52 => 0xBE0B7EAE#32
  | 53 => 0x400847D4#32
  | 54 => 0x3F3C3318#32
  | 55 => 0x3F8EF057#32
  | 56 => 0x3EBEFF9A#32
  | 57 => 0x3F68EBD4#32
  | 58 => 0x3FB83C5E#32
  | 59 => 0xBE17F96A#32
  | 60 => 0x3EFA8E06#32
  | 61 => 0x3E400706#32
  | 62 => 0x3FA878DD#32
  | 63 => 0xBEC02F4C#32
  | 64 => 0xBEA9A03B#32
  | 65 => 0x3EB9EEA8#32
  | 66 => 0x3F91217F#32
  | 67 => 0x406830F4#32
  | 68 => 0xBE089D6E#32
  | 69 => 0x3FA3F667#32
  | 70 => 0x3E53400E#32
  | 71 => 0x3E135B53#32
  | 72 => 0x3F4B8C9A#32
  | 73 => 0x3FA06BB5#32
  | 74 => 0x3EED7D15#32
  | 75 => 0xBF95F2B6#32
  | 76 => 0xBDEA7661#32
  | 77 => 0x3E58721F#32
  | 78 => 0xBF4E9E85#32
  | 79 => 0x3FD636FC#32
  | 80 => 0xBEC52408#32
  | 81 => 0x3E4D8439#32
  | 82 => 0x3F70848B#32
  | 83 => 0xBF40D075#32
  | 84 => 0xBE777510#32
  | 85 => 0xBEA4D853#32
  | 86 => 0x3F7D7E3D#32
  | 87 => 0xBF7D9964#32
  | 88 => 0xBF263D3F#32
  | 89 => 0x3EAC765A#32
  | 90 => 0x3E7BD495#32
  | 91 => 0x3F072220#32
  | 92 => 0xBF2DD899#32
  | 93 => 0x4007C591#32
  | 94 => 0xBD1EC34C#32
  | 95 => 0x3FF99B14#32
  | 96 => 0xBF9EE353#32
  | 97 => 0xBE7D595A#32
  | 98 => 0x3F85ACFC#32
  | 99 => 0xBFCD5A80#32
  | 100 => 0xBF872E90#32
  | 101 => 0xBE687F65#32
  | 102 => 0xBE17744C#32
  | 103 => 0xBF4B06BE#32
  | 104 => 0x3EB7C0EA#32
  | 105 => 0xBF252460#32
  | 106 => 0x3FDA7D78#32
  | 107 => 0x40598219#32
  | 108 => 0xBF087383#32
  | 109 => 0x3E46232B#32
  | 110 => 0xBF1E9B88#32
  | 111 => 0xBF01C252#32
  | 112 => 0x3F39F233#32
  | 113 => 0xBF1CE8B2#32
  | 114 => 0xBE326107#32
  | 115 => 0x3F811A3B#32
  | 116 => 0x3FF4B54B#32
  | 117 => 0x3F0F5732#32
  | 118 => 0x3E8C1223#32
  | 119 => 0xBEFAE95C#32
  | 120 => 0x3FB3CDF8#32
  | 121 => 0x3FF5E109#32
  | 122 => 0x3F4F4D7C#32
  | 123 => 0x3C1CB743#32
  | 124 => 0x3F309129#32
  | 125 => 0xBF6DF53C#32
  | 126 => 0x404E98DA#32
  | 127 => 0x3D136B0E#32
  | _ => 0#32

noncomputable abbrev lit0t0_332 (i : Nat) : BitVec 32 := match i % 128 with
  | 0 => 0x4010022F#32
  | 1 => 0x3F98BE1D#32
  | 2 => 0x3E59D19C#32
  | 3 => 0xBFC385D5#32
  | 4 => 0xBED5104F#32
  | 5 => 0x404815F2#32
  | 6 => 0x3F1A63BC#32
  | 7 => 0xBF563A05#32
  | 8 => 0x3FA5D804#32
  | 9 => 0xBF6EB83E#32
  | 10 => 0xBE48FCBF#32
  | 11 => 0x3F463520#32
  | 12 => 0x3FF07F1E#32
  | 13 => 0x3FA31166#32
  | 14 => 0x3EB8E562#32
  | 15 => 0xBF90258B#32
  | 16 => 0x3FC620EF#32
  | 17 => 0xBE410856#32
  | 18 => 0x40542B36#32
  | 19 => 0xBF26923F#32
  | 20 => 0x3FA6DDA2#32
  | 21 => 0x3D24749A#32
  | 22 => 0x3FE0E110#32
  | 23 => 0xBD2DF0FC#32
  | 24 => 0x3FC0D06C#32
  | 25 => 0xBF501434#32
  | 26 => 0x3EDA1136#32
  | 27 => 0x3F3126DF#32
  | 28 => 0x3F5BE8E7#32
  | 29 => 0xBF129F19#32
  | 30 => 0xBEDC42DC#32
  | 31 => 0xBF09A84D#32
  | 32 => 0x3FA02BD5#32
  | 33 => 0xBE2F09FC#32
  | 34 => 0x3FCF0719#32
  | 35 => 0x3F233617#32
  | 36 => 0x3E9B1AD4#32
  | 37 => 0x3F658C38#32
  | 38 => 0x3F4A440D#32
  | 39 => 0xBF13E5ED#32
  | 40 => 0xBE74183C#32
  | 41 => 0xBEB76877#32
  | 42 => 0xBFAB965D#32
  | 43 => 0xBE295184#32
  | 44 => 0xBF1C0766#32
  | 45 => 0xBF11EF75#32
  | 46 => 0xBD74E929#32
  | 47 => 0x4032115D#32
  | 48 => 0x3F87B4A5#32
  | 49 => 0x3F056763#32
  | 50 => 0x3F67AC1E#32
  | 51 => 0xBF3903CE#32
  | 52 => 0x3E411FBE#32
  | 53 => 0x3F5C31EA#32
  | 54 => 0x3F822B7E#32
  | 55 => 0x3FAEC808#32
  | 56 => 0x3E579976#32
  | 57 => 0x3EEFB4A2#32
  | 58 => 0x4093BF97#32
  | 59 => 0x3FCA2D24#32
  | 60 => 0x3FC28619#32
  | 61 => 0xBDB41620#32
  | 62 => 0xBDA57100#32
  | 63 => 0x401AAB5B#32
  | 64 => 0x3F76F456#32
  | 65 => 0x3EC3C8EC#32
  | 66 => 0x3FDF1E9F#32
  | 67 => 0xBF81FD96#32
  | 68 => 0x40817112#32
  | 69 => 0x3F67B2CE#32
  | 70 => 0x400F325E#32
  | 71 => 0x3ED56B25#32
  | 72 => 0xBFE5252C#32
  | 73 => 0x3E885452#32
  | 74 => 0xBF454B78#32
  | 75 => 0xBD2ED477#32
  | 76 => 0xBEB97F0A#32
  | 77 => 0x3F429490#32
  | 78 => 0x3F9EBA4D#32
  | 79 => 0xBF04EB81#32
  | 80 => 0x403A6BC0#32
  | 81 => 0x3F2393D8#32
  | 82 => 0xBD63BE15#32
  | 83 => 0x3F6B577E#32
  | 84 => 0x3D3C6F4B#32
  | 85 => 0x3EEE8A92#32
  | 86 => 0x3F9B4B0C#32
  | 87 => 0xBE87547F#32
  | 88 => 0x3FC17C3C#32
  | 89 => 0xBFA2E9FA#32
  | 90 => 0x40BDC71C#32
  | 91 => 0xBD3F9472#32
  | 92 => 0x3F8842C2#32
  | 93 => 0xBEA497A9#32
  | 94 => 0x407F0E9B#32
  | 95 => 0xBE698293#32
  | 96 => 0x3F97340A#32
  | 97 => 0xBF0E50E4#32
  | 98 => 0x3EDC411C#32
  | 99 => 0x3D17F585#32
  | 100 => 0xBE8F54EA#32
  | 101 => 0x3FFCDDBD#32
  | 102 => 0xBEAE6CC8#32
  | 103 => 0xBF9D4A23#32
  | 104 => 0x3F59DD7C#32
  | 105 => 0x407A903B#32
  | 106 => 0x3EA57186#32
  | 107 => 0x3F5168F9#32
  | 108 => 0x3E3B0D5F#32
  | 109 => 0xBF48C052#32
  | 110 => 0x406DA8B9#32
  | 111 => 0x4053EC8D#32
  | 112 => 0xBE13AE25#32
  | 113 => 0x3F72F95C#32
  | 114 => 0x3F27736F#32
  | 115 => 0x4016C670#32
  | 116 => 0xBEB22762#32
  | 117 => 0x3D081D1B#32
  | 118 => 0x3FEA4C45#32
  | 119 => 0xBF323DC5#32
  | 120 => 0x40496386#32
  | 121 => 0x3FCCEAC7#32
  | 122 => 0x3F6490AA#32
  | 123 => 0xBEEEB326#32
  | 124 => 0x3FB1115F#32
  | 125 => 0x3F14B275#32
  | 126 => 0xBF81EA61#32
  | 127 => 0x40633DB1#32
  | _ => 0#32

noncomputable abbrev lit0t0_333 (i : Nat) : BitVec 32 := match i % 128 with
  | 0 => 0x3E052504#32
  | 1 => 0x3F217C8B#32
  | 2 => 0x3F0900C3#32
  | 3 => 0x3FD29A35#32
  | 4 => 0x40019A3C#32
  | 5 => 0x3F63883B#32
  | 6 => 0xBFC204C4#32
  | 7 => 0xBD91ADC7#32
  | 8 => 0x3F7DF58F#32
  | 9 => 0xBEE210D6#32
  | 10 => 0xBE19A280#32
  | 11 => 0x3F0828F1#32
  | 12 => 0x3E9DEE07#32
  | 13 => 0x405A6B1F#32
  | 14 => 0xBEC74D0B#32
  | 15 => 0x3F8BE2C5#32
  | 16 => 0x3F1A4A32#32
  | 17 => 0xBE29AF4A#32
  | 18 => 0x40666596#32
  | 19 => 0x3ED4EBD4#32
  | 20 => 0xBF6B0C54#32
  | 21 => 0x408E0886#32
  | 22 => 0x3C170624#32
  | 23 => 0xBF83E024#32
  | 24 => 0x3F38D921#32
  | 25 => 0x3FCE14B0#32
  | 26 => 0xBF1EB97C#32
  | 27 => 0x40201CA8#32
  | 28 => 0x40A54A42#32
  | 29 => 0xBEEDF52E#32
  | 30 => 0xBF2414DD#32
  | 31 => 0x3F0EB37C#32
  | 32 => 0x3EAA1CAE#32
  | 33 => 0x400F6C82#32
  | 34 => 0x40108DBD#32
  | 35 => 0x3FAC2796#32
  | 36 => 0x3EB6724D#32
  | 37 => 0x3FA19E04#32
  | 38 => 0x3E5A241E#32
  | 39 => 0x3EC51D4A#32
  | 40 => 0xBF3FE213#32
  | 41 => 0xBED9B3D1#32
  | 42 => 0x40168160#32
  | 43 => 0x3EBAEC92#32
  | 44 => 0x3F8D78E6#32
  | 45 => 0xBED3A005#32
  | 46 => 0xBE02CD8F#32
  | 47 => 0xBE93DE83#32
  | 48 => 0x3F564B4C#32
  | 49 => 0x3FBB0D86#32
  | 50 => 0x3F88E29E#32
  | 51 => 0xBF1A9E24#32
  | 52 => 0x3C5A5648#32
  | 53 => 0xBEA07C7D#32
  | 54 => 0x4007F7F9#32
  | 55 => 0xBF7FC010#32
  | 56 => 0x3F4A1B46#32
  | 57 => 0xBE777F97#32
  | 58 => 0x3D89EDCF#32
  | 59 => 0xBF26208C#32
  | 60 => 0x3F48815F#32
  | 61 => 0x3EADC786#32
  | 62 => 0x3FDFF772#32
  | 63 => 0xBEDFE9A2#32
  | 64 => 0x3FFA529E#32
  | 65 => 0x3F4B4629#32
  | 66 => 0x3ED67A12#32
  | 67 => 0xBE1C156E#32
  | 68 => 0xBF3C3187#32
  | 69 => 0x3FB4D018#32
  | 70 => 0x3EF3DF6C#32
  | 71 => 0x3E90F7D3#32
  | 72 => 0xBF4F54C4#32
  | 73 => 0x3F79F7B6#32
  | 74 => 0x3F8C43EA#32
  | 75 => 0xBF71B9E5#32
  | 76 => 0x3F96DD3D#32
  | 77 => 0x402F43C3#32
  | 78 => 0xBF24B1FE#32
  | 79 => 0xBEE7869A#32
  | 80 => 0xBEFB4F3E#32
  | 81 => 0xBE8D0FB6#32
  | 82 => 0x3E6E7C1C#32
  | 83 => 0x40487D51#32
  | 84 => 0x3EF13AAE#32
  | 85 => 0x3ED83305#32
  | 86 => 0x3EA290B4#32
  | 87 => 0xBFD1D628#32
  | 88 => 0xBFB56116#32
  | 89 => 0xBF484569#32
  | 90 => 0xBECA9263#32
  | 91 => 0x3F9D4143#32
  | 92 => 0xBE695598#32
  | 93 => 0xBEF4442B#32
  | 94 => 0x3F17004F#32
  | 95 => 0x3F37F9A7#32
  | 96 => 0x3FA4DAD9#32
  | 97 => 0x3FDA4EB8#32
  | 98 => 0x3FCEBC62#32
  | 99 => 0x3EDFF83E#32
  | 100 => 0x3FFFE4D6#32
  | 101 => 0x3FC11511#32
  | 102 => 0x3F370E9D#32
  | 103 => 0xBE81A60E#32
  | 104 => 0xBD7562AA#32
  | 105 => 0x3F0FE65E#32
  | 106 => 0x3EC65C30#32
  | 107 => 0x3F9EB808#32
  | 108 => 0xBF2C07CF#32
  | 109 => 0xBC03CEE7#32
  | 110 => 0x3FAC4A80#32
  | 111 => 0x3CE10E14#32
  | 112 => 0xBF1A4EF3#32
  | 113 => 0x3DFD6291#32
  | 114 => 0x3CC85D53#32
  | 115 => 0x401C3C30#32
  | 116 => 0x3F0EEC9A#32
  | 117 => 0x3D87174D#32
  | 118 => 0x40279230#32
  | 119 => 0xBDE8059F#32
  | 120 => 0x3F3EF13C#32
  | 121 => 0xBE91A572#32
  | 122 => 0x3F5F9D10#32
  | 123 => 0xBE9749BA#32
  | 124 => 0x3F40AAE9#32
  | 125 => 0x3E1A1286#32
  | 126 => 0xBE67456F#32
  | 127 => 0x3DD7FAC4#32
  | _ => 0#32

noncomputable abbrev lit0t0_334 (i : Nat) : BitVec 32 := match i % 128 with
  | 0 => 0x400A78B6#32
  | 1 => 0x3FCC7492#32
  | 2 => 0xBEC9C881#32
  | 3 => 0xBE7942B9#32
  | 4 => 0xBF56055D#32
  | 5 => 0x3FEAF490#32
  | 6 => 0x3FF37237#32
  | 7 => 0x3F556A63#32
  | 8 => 0x3FC83A03#32
  | 9 => 0xBF9D77F8#32
  | 10 => 0x3FA1B865#32
  | 11 => 0x403DE96C#32
  | 12 => 0x3FC3E164#32
  | 13 => 0x3FF39FE7#32
  | 14 => 0x3F1C34B0#32
  | 15 => 0xBD465BB9#32
  | 16 => 0x3EF31E2C#32
  | 17 => 0x3F15ACCF#32
  | 18 => 0x3E34B779#32
  | 19 => 0xBFC57F61#32
  | 20 => 0x3F3A10DB#32
  | 21 => 0x4097A60C#32
  | 22 => 0x3F1260B0#32
  | 23 => 0xBF6D24E4#32
  | 24 => 0xBDF29E9C#32
  | 25 => 0x3F8AB1E4#32
  | 26 => 0x3F4C45E7#32
  | 27 => 0x3ECEA586#32
  | 28 => 0xBF395BF3#32
  | 29 => 0x3FE411A6#32
  | 30 => 0x403D0A7E#32
  | 31 => 0x3F70AB3B#32
  | 32 => 0x3F041E48#32
  | 33 => 0xBE560911#32
  | 34 => 0xBEEACC94#32
  | 35 => 0xBF3B9B65#32
  | 36 => 0x3FFA09A8#32
  | 37 => 0x3F61EAC2#32
  | 38 => 0xBEF7E6A8#32
  | 39 => 0x3FD27AB2#32
  | 40 => 0x402737A6#32
  | 41 => 0xBFB87F29#32
  | 42 => 0xBE12879E#32
  | 43 => 0x3FF866B7#32
  | 44 => 0x3FDE619E#32
  | 45 => 0xBF95A1DB#32
  | 46 => 0xBF9DA407#32
  | 47 => 0xBEC50B3F#32
  | 48 => 0xBE1B8132#32
  | 49 => 0xBE0B2474#32
  | 50 => 0x3DA04F7D#32
  | 51 => 0x40792E2C#32
  | 52 => 0x3E90C32E#32
  | 53 => 0x3F7573C7#32
  | 54 => 0x3FB3C379#32
  | 55 => 0xBDD9532F#32
  | 56 => 0x3FC4DA4F#32
  | 57 => 0x3D089DF3#32
  | 58 => 0xBD061865#32
  | 59 => 0xBEB52C66#32
  | 60 => 0x402FA761#32
  | 61 => 0xBE6F177E#32
  | 62 => 0x3DE67EA9#32
  | 63 => 0x3F89561B#32
  | 64 => 0xBE37067F#32
  | 65 => 0xBEDB9A94#32
  | 66 => 0x402174B3#32
  | 67 => 0x3FFBBD38#32
  | 68 => 0x3F924CEC#32
  | 69 => 0x3DF8CB20#32
  | 70 => 0x3D9EF3B9#32
  | 71 => 0x3F2E226D#32
  | 72 => 0x3F22368E#32
  | 73 => 0xBEDE0149#32
  | 74 => 0x4023B3B7#32
  | 75 => 0x3FB29456#32
  | 76 => 0x4047FCF0#32
  | 77 => 0x3FB099AE#32
  | 78 => 0x40959042#32
  | 79 => 0x3EB05862#32
  | 80 => 0x3F190B0B#32
  | 81 => 0x3F53BFAE#32
  | 82 => 0x3F4A55AC#32
  | 83 => 0xBE20D988#32
  | 84 => 0x3FD809F8#32
  | 85 => 0x3CA0CF4E#32
  | 86 => 0x3F9A634A#32
  | 87 => 0x3F02C5F9#32
  | 88 => 0xBA3C9EA0#32
  | 89 => 0x3F3B88AF#32
  | 90 => 0x4046F578#32
  | 91 => 0x3F910892#32
  | 92 => 0xBFAAF7B3#32
  | 93 => 0x3FB59D1E#32
  | 94 => 0x3EAD9A88#32
  | 95 => 0xBF81E07B#32
  | 96 => 0x402D2375#32
  | 97 => 0xBE6D9364#32
  | 98 => 0x3F7E18DA#32
  | 99 => 0x3FAE738C#32
  | 100 => 0x40034122#32
  | 101 => 0xBE3CFADC#32
  | 102 => 0xBF8F8FD0#32
  | 103 => 0xBDE3D140#32
  | 104 => 0xBF43360D#32
  | 105 => 0xBF76E5A6#32
  | 106 => 0x3E80E383#32
  | 107 => 0xC00638C2#32
  | 108 => 0x3E6BCF4A#32
  | 109 => 0x3FB8F7E7#32
  | 110 => 0x3F0189CD#32
  | 111 => 0x3FEE8F7A#32
  | 112 => 0x3F912F32#32
  | 113 => 0xBE761B38#32
  | 114 => 0x3E82DD64#32
  | 115 => 0xBE2D73CC#32
  | 116 => 0xBF92DB5B#32
  | 117 => 0x3FD20C69#32
  | 118 => 0x3FD35088#32
  | 119 => 0x3F554D04#32
  | 120 => 0xBF07D5FB#32
  | 121 => 0xBF411550#32
  | 122 => 0x3FF8C570#32
  | 123 => 0x3F601BDE#32
  | 124 => 0x3E9ABEEA#32
  | 125 => 0x3F8302F0#32
  | 126 => 0xBEBCD8DC#32
  | 127 => 0xBDBA9829#32
  | _ => 0#32

noncomputable abbrev lit0t0_335 (i : Nat) : BitVec 32 := match i % 128 with
  | 0 => 0xBE5279E7#32
  | 1 => 0xBF1841D4#32
  | 2 => 0x3FD1EC14#32
  | 3 => 0xBF86C232#32
  | 4 => 0x3F382C07#32
  | 5 => 0xBEF500D4#32
  | 6 => 0x40052A37#32
  | 7 => 0x4027442D#32
  | 8 => 0xBFA6841B#32
  | 9 => 0xBDD5D9F5#32
  | 10 => 0x3FD5109C#32
  | 11 => 0x3F907877#32
  | 12 => 0x3F3742E7#32
  | 13 => 0x3E181763#32
  | 14 => 0x3F51323D#32
  | 15 => 0x3F11009D#32
  | 16 => 0x3FF32485#32
  | 17 => 0x3F0DD563#32
  | 18 => 0x3F0E6E33#32
  | 19 => 0x3E702D33#32
  | 20 => 0xBF1D6835#32
  | 21 => 0xBED0FBE7#32
  | 22 => 0xBF95F09B#32
  | 23 => 0xBD0593CC#32
  | 24 => 0x3FFEC64B#32
  | 25 => 0x3F05C3AA#32
  | 26 => 0xBF86C7A8#32
  | 27 => 0xBD3EE8A7#32
  | 28 => 0x406A1CDE#32
  | 29 => 0x3F72234C#32
  | 30 => 0xBEC307F4#32
  | 31 => 0x3E952E31#32
  | 32 => 0x3E86638F#32
  | 33 => 0xBF123BE0#32
  | 34 => 0x400FD021#32
  | 35 => 0xBE080CF1#32
  | 36 => 0xBF5DBB3A#32
  | 37 => 0x3EEF4675#32
  | 38 => 0x3F714690#32
  | 39 => 0xBF4EE7B7#32
  | 40 => 0x3F34C9C6#32
  | 41 => 0x40B7948F#32
  | 42 => 0x3F949D4B#32
  | 43 => 0x3F91AEAD#32
  | 44 => 0x408D31AD#32
  | 45 => 0xBFB193B9#32
  | 46 => 0x3CB04752#32
  | 47 => 0xBE9C45D4#32
  | 48 => 0xBF6A7DBD#32
  | 49 => 0x3FB5F321#32
  | 50 => 0x3F825D9E#32
  | 51 => 0x3F6A6C63#32
  | 52 => 0x3E3CECF6#32
  | 53 => 0xBF3E585B#32
  | 54 => 0x3F63C572#32
  | 55 => 0xBFC6B52E#32
  | 56 => 0xBF5E5783#32
  | 57 => 0xBF1BBCD5#32
  | 58 => 0xBF86116C#32
  | 59 => 0x3FD7834C#32
  | 60 => 0x3E909298#32
  | 61 => 0xBFD819A7#32
  | 62 => 0xBE8F3FBB#32
  | 63 => 0x406EF30F#32
  | 64 => 0x3E5898E3#32
  | 65 => 0xBF00984C#32
  | 66 => 0xBFDB4A16#32
  | 67 => 0xBCBE26E3#32
  | 68 => 0x3F52B584#32
  | 69 => 0xBF28DAC4#32
  | 70 => 0x3ED11846#32
  | 71 => 0xBE068063#32
  | 72 => 0xBDCE738D#32
  | 73 => 0xBF92FDC4#32
  | 74 => 0xBEB7D1C0#32
  | 75 => 0x3FD15B93#32
  | 76 => 0x4013F9C2#32
  | 77 => 0x4081C94A#32
  | 78 => 0x4031FD33#32
  | 79 => 0x400E75EC#32
  | 80 => 0x3FBA81FA#32
  | 81 => 0xBE83B1F0#32
  | 82 => 0x3EA8E662#32
  | 83 => 0xBFC772C6#32
  | 84 => 0x3FDE4DB8#32
  | 85 => 0xBF08D3A5#32
  | 86 => 0x3E89D540#32
  | 87 => 0x3EACD080#32
  | 88 => 0xBF48143E#32
  | 89 => 0x3CE5D3A8#32
  | 90 => 0x3DF4C535#32
  | 91 => 0x3FC3015D#32
  | 92 => 0xBFD2D7E8#32
  | 93 => 0xBF15341A#32
  | 94 => 0x3D241304#32
  | 95 => 0x3E872A0B#32
  | 96 => 0x3F3B8987#32
  | 97 => 0xBED19ACE#32
  | 98 => 0xBEBBBD43#32
  | 99 => 0x3E27FAED#32
  | 100 => 0x3F306150#32
  | 101 => 0xBF9372F8#32
  | 102 => 0x3E0AFBE7#32
  | 103 => 0x3C50EB0C#32
  | 104 => 0xBE997105#32
  | 105 => 0xBF1A0988#32
  | 106 => 0x40684CE8#32
  | 107 => 0x3F815B14#32
  | 108 => 0x40FED2A8#32
  | 109 => 0x3FC2CC4F#32
  | 110 => 0xBF91B0F8#32
  | 111 => 0x4058652E#32
  | 112 => 0xBF81E43B#32
  | 113 => 0x3F268413#32
  | 114 => 0x3EFF1005#32
  | 115 => 0xBF3907EA#32
  | 116 => 0xBF43FB99#32
  | 117 => 0xBDAAEAE4#32
  | 118 => 0x4018E1D6#32
  | 119 => 0xBFAC3359#32
  | 120 => 0xBF98022A#32
  | 121 => 0xBEAB1816#32
  | 122 => 0xBF0721D6#32
  | 123 => 0x3F2871EA#32
  | 124 => 0xBFEE76CB#32
  | 125 => 0x3DDCC3ED#32
  | 126 => 0xBE942CD9#32
  | 127 => 0xBE8B5C9B#32
  | _ => 0#32

noncomputable abbrev lit0t0_336 (i : Nat) : BitVec 32 := match i % 128 with
  | 0 => 0xBDA7B1DE#32
  | 1 => 0x3E8CE5C3#32
  | 2 => 0x40124A6F#32
  | 3 => 0xBEA0DD74#32
  | 4 => 0x4000D1FE#32
  | 5 => 0xBFCB3B6F#32
  | 6 => 0x4050FB46#32
  | 7 => 0x4008A7D3#32
  | 8 => 0xBE96F716#32
  | 9 => 0xBFB48AB7#32
  | 10 => 0x3ECE7620#32
  | 11 => 0x3C35B90B#32
  | 12 => 0x3E7414BA#32
  | 13 => 0xBE29EE8A#32
  | 14 => 0x3FFA5BC6#32
  | 15 => 0x400B1297#32
  | 16 => 0x3EBD8FA0#32
  | 17 => 0x4010F3BE#32
  | 18 => 0x40195291#32
  | 19 => 0xBD00AB4C#32
  | 20 => 0xBF47F132#32
  | 21 => 0x3FD93BD8#32
  | 22 => 0x3D8E54BE#32
  | 23 => 0x3F941631#32
  | 24 => 0x3F3EB24F#32
  | 25 => 0x3EB5F806#32
  | 26 => 0x3F3AAEAA#32
  | 27 => 0x40090C7E#32
  | 28 => 0x3ED11FBA#32
  | 29 => 0x3E2F8D36#32
  | 30 => 0x3EC7A136#32
  | 31 => 0xBEA346FE#32
  | 32 => 0x3EC38158#32
  | 33 => 0xBE021D2E#32
  | 34 => 0x3FD7E204#32
  | 35 => 0xBE2B8B61#32
  | 36 => 0x3EAB0AA3#32
  | 37 => 0x3EC1335C#32
  | 38 => 0xBF12590B#32
  | 39 => 0xBF7F3A1D#32
  | 40 => 0xBEB9E34E#32
  | 41 => 0xBF5F18DF#32
  | 42 => 0x3FEE5532#32
  | 43 => 0x408FD315#32
  | 44 => 0x40D222E6#32
  | 45 => 0x3FA93AB4#32
  | 46 => 0xBF8DADB6#32
  | 47 => 0x4052F9C7#32
  | 48 => 0x3F4DFCB3#32
  | 49 => 0xBF2E0D82#32
  | 50 => 0x3E62A23E#32
  | 51 => 0x3F955379#32
  | 52 => 0x3FF15A61#32
  | 53 => 0x3DC9273D#32
  | 54 => 0x3F4E9DFF#32
  | 55 => 0x3F938B80#32
  | 56 => 0x3FE9E2E1#32
  | 57 => 0x3EA79D9B#32
  | 58 => 0x3DDE0E86#32
  | 59 => 0xBF98E61F#32
  | 60 => 0x3E9E7E6E#32
  | 61 => 0x3F9E9E3D#32
  | 62 => 0x3F1B0B46#32
  | 63 => 0x4054DEF4#32
  | 64 => 0xBF16F534#32
  | 65 => 0x3F8934CE#32
  | 66 => 0xBE2E02FB#32
  | 67 => 0xBFDE519A#32
  | 68 => 0x3E8BFA3A#32
  | 69 => 0x3FFC24DB#32
  | 70 => 0x3FE7D1E2#32
  | 71 => 0x3A6DCF9B#32
  | 72 => 0x3F6E82C8#32
  | 73 => 0xBF8F84CC#32
  | 74 => 0xBF84D4DE#32
  | 75 => 0x3ED750E4#32
  | 76 => 0xBE1345BB#32
  | 77 => 0xBCFBCE4D#32
  | 78 => 0x3F094BC7#32
  | 79 => 0x3E9B7AF6#32
  | 80 => 0xBEE3C006#32
  | 81 => 0xBE2093D1#32
  | 82 => 0xBF332D1C#32
  | 83 => 0x3F2AB544#32
  | 84 => 0x3E8FCC09#32
  | 85 => 0x3F5D6868#32
  | 86 => 0xBEC708A6#32
  | 87 => 0xBE995D4A#32
  | 88 => 0x408103E6#32
  | 89 => 0x400E4326#32
  | 90 => 0x3FA677B3#32
  | 91 => 0xBF1C187A#32
  | 92 => 0xBF185D45#32
  | 93 => 0x3F83D13C#32
  | 94 => 0xBE7B175F#32
  | 95 => 0x3F9C6FD3#32
  | 96 => 0x3E7E8D0F#32
  | 97 => 0xBE918C2D#32
  | 98 => 0x405AF7E0#32
  | 99 => 0x3ECF57C2#32
  | 100 => 0x3D1CF870#32
  | 101 => 0x3EDB8012#32
  | 102 => 0x3FADE765#32
  | 103 => 0x3F4AC50C#32
  | 104 => 0x3F614B35#32
  | 105 => 0xBEC7418F#32
  | 106 => 0xBE2DD922#32
  | 107 => 0xBF3E3D8C#32
  | 108 => 0xBE3699BA#32
  | 109 => 0x3F554E75#32
  | 110 => 0x3F1615D8#32
  | 111 => 0x3F36125F#32
  | 112 => 0x3F005003#32
  | 113 => 0x3F474E76#32
  | 114 => 0x400BF983#32
  | 115 => 0x3F28601E#32
  | 116 => 0x3DF1B2E7#32
  | 117 => 0x3ED078CA#32
  | 118 => 0x3FEC08FE#32
  | 119 => 0x3F1E0EC4#32
  | 120 => 0xBF3BF618#32
  | 121 => 0x3E57A9DB#32
  | 122 => 0x3D33605A#32
  | 123 => 0xBF581D74#32
  | 124 => 0xBF7F294E#32
  | 125 => 0x40496869#32
  | 126 => 0x3F61F3FC#32
  | 127 => 0x3F8B313B#32
  | _ => 0#32

noncomputable abbrev lit0t0_337 (i : Nat) : BitVec 32 := match i % 128 with
  | 0 => 0xBEF2386C#32
  | 1 => 0x3F054D3C#32
  | 2 => 0xBED9B0A8#32
  | 3 => 0x3F9644BE#32
  | 4 => 0xBF83606C#32
  | 5 => 0x3F9B1612#32
  | 6 => 0x3F074398#32
  | 7 => 0x3F41D34B#32
  | 8 => 0xBE190835#32
  | 9 => 0x3E6C20C8#32
  | 10 => 0xBF8D1D5A#32
  | 11 => 0xBEA0FD43#32
  | 12 => 0x3F91A49E#32
  | 13 => 0xBFA2E44D#32
  | 14 => 0xBF983BF9#32
  | 15 => 0xBF2C86C1#32
  | 16 => 0x3F4174D0#32
  | 17 => 0x3E87110D#32
  | 18 => 0xBF2D57DB#32
  | 19 => 0x3FE2CE62#32
  | 20 => 0xBE5D3F96#32
  | 21 => 0x405F0718#32
  | 22 => 0xBEC96F7A#32
  | 23 => 0x3F529600#32
  | 24 => 0xBF2D5490#32
  | 25 => 0xBE7D8A44#32
  | 26 => 0xBFA7DEC2#32
  | 27 => 0xBDC1A93C#32
  | 28 => 0xBF705014#32
  | 29 => 0x3F9B36D0#32
  | 30 => 0x3F2EC7CC#32
  | 31 => 0x3EE5D5D2#32
  | 32 => 0x3E5D0B73#32
  | 33 => 0x3ED30FE1#32
  | 34 => 0xBED741FA#32
  | 35 => 0xBF1A3BE4#32
  | 36 => 0x3FEBE9C3#32
  | 37 => 0xBF23C987#32
  | 38 => 0x40518DFD#32
  | 39 => 0x404901EB#32
  | 40 => 0x3F85DA14#32
  | 41 => 0x3F1C2AB5#32
  | 42 => 0xBEB8E724#32
  | 43 => 0x3F9C564E#32
  | 44 => 0xBF47CC2A#32
  | 45 => 0x3FD36A3E#32
  | 46 => 0x40238023#32
  | 47 => 0xBF678463#32
  | 48 => 0xBEC0DCEE#32
  | 49 => 0x3E9BC294#32
  | 50 => 0x3F1F939B#32
  | 51 => 0x4053A9DC#32
  | 52 => 0x3F9CCC4B#32
  | 53 => 0x3FB8DBD3#32
  | 54 => 0xBD799D97#32
  | 55 => 0xBE4D839F#32
  | 56 => 0x3E5805F9#32
  | 57 => 0x402C5B61#32
  | 58 => 0x3FE26D3F#32
  | 59 => 0xBEBE8ED1#32
  | 60 => 0x3FE6A370#32
  | 61 => 0x3E19E021#32
  | 62 => 0xBE81AEFA#32
  | 63 => 0x3FFE1FEF#32
  | 64 => 0xBECD3598#32
  | 65 => 0x3EFE59C8#32
  | 66 => 0x3F81561C#32
  | 67 => 0x3EF129FF#32
  | 68 => 0x3F8BF6F6#32
  | 69 => 0x3F5EE9FA#32
  | 70 => 0xBE60D7D3#32
  | 71 => 0xBD7B192A#32
  | 72 => 0xBD8A6E10#32
  | 73 => 0x404C6F9E#32
  | 74 => 0x3FD316C2#32
  | 75 => 0x3FB5D7FC#32
  | 76 => 0x3FF4465C#32
  | 77 => 0x3FF501B6#32
  | 78 => 0x3F9C2091#32
  | 79 => 0xBDFAF0D1#32
  | 80 => 0x400FA6E5#32
  | 81 => 0x3F291FF3#32
  | 82 => 0x3F2E5A0E#32
  | 83 => 0x3FD814F3#32
  | 84 => 0xBF352C22#32
  | 85 => 0x3FAE266D#32
  | 86 => 0x3F86792F#32
  | 87 => 0x3F117324#32
  | 88 => 0x3EFBC95E#32
  | 89 => 0x3EA230EC#32
  | 90 => 0x3FC8DDE0#32
  | 91 => 0x3FAB4641#32
  | 92 => 0x40138154#32
  | 93 => 0x3F306B5D#32
  | 94 => 0x3E936219#32
  | 95 => 0x40642188#32
  | 96 => 0x4088E683#32
  | 97 => 0xBF698C77#32
  | 98 => 0x401F2F0B#32
  | 99 => 0x3F2CD06C#32
  | 100 => 0xBD7F5475#32
  | 101 => 0x3EC8C9E4#32
  | 102 => 0xBD717DF3#32
  | 103 => 0x3FB6C93A#32
  | 104 => 0xBD348991#32
  | 105 => 0xBB7ABB0F#32
  | 106 => 0xBD76A570#32
  | 107 => 0xBFBC2203#32
  | 108 => 0xBF138482#32
  | 109 => 0xBEA62894#32
  | 110 => 0xBF1D4CDB#32
  | 111 => 0xBF5B9F0A#32
  | 112 => 0xBFA49929#32
  | 113 => 0x3F127063#32
  | 114 => 0x3E02733E#32
  | 115 => 0x3E672F74#32
  | 116 => 0xBE8874F7#32
  | 117 => 0xBD6D6CC2#32
  | 118 => 0x402EDDDA#32
  | 119 => 0x3F472459#32
  | 120 => 0xBF38F2D2#32
  | 121 => 0xBC889468#32
  | 122 => 0xBFB304F9#32
  | 123 => 0xBFBEA08F#32
  | 124 => 0x3F437B8E#32
  | 125 => 0x3F6651A3#32
  | 126 => 0xBF9B3A97#32
  | 127 => 0xBF1A462E#32
  | _ => 0#32

noncomputable abbrev lit0t0_338 (i : Nat) : BitVec 32 := match i % 128 with
  | 0 => 0x3DA65F7F#32
  | 1 => 0xBF07215C#32
  | 2 => 0x3F9BB6E0#32
  | 3 => 0x3D67BFA6#32
  | 4 => 0x3FCDC5FB#32
  | 5 => 0x3F07A204#32
  | 6 => 0x3FE46567#32
  | 7 => 0x4023AAF2#32
  | 8 => 0x3FBB0AD9#32
  | 9 => 0x3FB9ED13#32
  | 10 => 0x3F203EC2#32
  | 11 => 0xBD9FB3A4#32
  | 12 => 0xBF7832AE#32
  | 13 => 0x3FA947CA#32
  | 14 => 0x3F86BF56#32
  | 15 => 0xBF1CA968#32
  | 16 => 0x3E87281E#32
  | 17 => 0xBF1FA0D2#32
  | 18 => 0xBF09AF9C#32
  | 19 => 0x3E5CE700#32
  | 20 => 0x3E999799#32
  | 21 => 0x3F7AE186#32
  | 22 => 0x40A5FADC#32
  | 23 => 0x3E842E6C#32
  | 24 => 0x3EE5DF8C#32
  | 25 => 0xBEC3A29A#32
  | 26 => 0x3FFA07F1#32
  | 27 => 0x4004135C#32
  | 28 => 0xBF80B748#32
  | 29 => 0x3F7EF4D3#32
  | 30 => 0x3B46F53C#32
  | 31 => 0xBF7AC2FD#32
  | 32 => 0x3FB2CF16#32
  | 33 => 0x3FED12A3#32
  | 34 => 0xBF4ABF90#32
  | 35 => 0x3E247829#32
  | 36 => 0xBE6A4447#32
  | 37 => 0x3EFC7B96#32
  | 38 => 0x4071BEF7#32
  | 39 => 0xBF25CBE7#32
  | 40 => 0x3F8D6908#32
  | 41 => 0xBF2CB401#32
  | 42 => 0xBEAA32ED#32
  | 43 => 0xBF9252E1#32
  | 44 => 0x40945647#32
  | 45 => 0x402DB598#32
  | 46 => 0x3FCFC7B7#32
  | 47 => 0x3F1DA9C8#32
  | 48 => 0x3CAAC70D#32
  | 49 => 0x4028C812#32
  | 50 => 0x3E4E578C#32
  | 51 => 0xBEDC4356#32
  | 52 => 0xBF2EB4DC#32
  | 53 => 0x3EC6BF72#32
  | 54 => 0x3FDF616E#32
  | 55 => 0x3EF1D877#32
  | 56 => 0xBE2B7903#32
  | 57 => 0x3F57CCAC#32
  | 58 => 0x3FBD8FA0#32
  | 59 => 0xBE16920F#32
  | 60 => 0x4034A57F#32
  | 61 => 0xBE16B96A#32
  | 62 => 0xBE0DC368#32
  | 63 => 0xBD6C6350#32
  | 64 => 0x3FF43504#32
  | 65 => 0xBE1D2969#32
  | 66 => 0xBEEABF20#32
  | 67 => 0x3FEF0A3C#32
  | 68 => 0xBF5DD77F#32
  | 69 => 0x404B5EF7#32
  | 70 => 0xBCEFE248#32
  | 71 => 0x3F532396#32
  | 72 => 0xBF7CAD1E#32
  | 73 => 0x3FDF8EAF#32
  | 74 => 0xBF3A95D7#32
  | 75 => 0x3F3373F5#32
  | 76 => 0xBFE93439#32
  | 77 => 0xBF80883D#32
  | 78 => 0xBE5011FF#32
  | 79 => 0xBF8C40FC#32
  | 80 => 0x40CBB19D#32
  | 81 => 0xBF3F57C9#32
  | 82 => 0xBF1605D5#32
  | 83 => 0x3FC9C269#32
  | 84 => 0x3F51EE26#32
  | 85 => 0x3E08C13D#32
  | 86 => 0xBF0CBA72#32
  | 87 => 0x3F33D30A#32
  | 88 => 0xBCEE43CD#32
  | 89 => 0x404A44F0#32
  | 90 => 0xBF46BC0C#32
  | 91 => 0xBE4D03E2#32
  | 92 => 0x3F9D9F22#32
  | 93 => 0x3E1DE343#32
  | 94 => 0xBF1EFE3C#32
  | 95 => 0x3FCD61B4#32
  | 96 => 0x3E55E353#32
  | 97 => 0xBF70AAA3#32
  | 98 => 0x3FAD8593#32
  | 99 => 0x3F5EFD5A#32
  | 100 => 0x3E9E732A#32
  | 101 => 0xBDB15AA9#32
  | 102 => 0x3F6C6EE0#32
  | 103 => 0x3F143AE1#32
  | 104 => 0x3F884C5B#32
  | 105 => 0x3F7D2BFB#32
  | 106 => 0x3E7B6A8B#32
  | 107 => 0x3DCEAB84#32
  | 108 => 0xBEA87D65#32
  | 109 => 0xBE070BF1#32
  | 110 => 0x3DA04AB1#32
  | 111 => 0xBF24778C#32
  | 112 => 0xBEDA64BD#32
  | 113 => 0xBF7BEF30#32
  | 114 => 0xBF6E9556#32
  | 115 => 0xBC65CDFC#32
  | 116 => 0x3E8E4A1D#32
  | 117 => 0x3FB4162A#32
  | 118 => 0xBF64BEC2#32
  | 119 => 0xBF4C1F4C#32
  | 120 => 0x406F42E8#32
  | 121 => 0x408319D7#32
  | 122 => 0xBF5491D6#32
  | 123 => 0x3F5D968B#32
  | 124 => 0x3F6C9B40#32
  | 125 => 0xBE9B9C37#32
  | 126 => 0x3F8577E1#32
  | 127 => 0x3E9F7238#32
  | _ => 0#32

noncomputable abbrev lit0t0_339 (i : Nat) : BitVec 32 := match i % 128 with
  | 0 => 0x3FC676A6#32
  | 1 => 0x404CF85E#32
  | 2 => 0xBF5CF361#32
  | 3 => 0x3E7B0580#32
  | 4 => 0x3F476FA5#32
  | 5 => 0x3E3A23F4#32
  | 6 => 0xBEF095E4#32
  | 7 => 0x3F9949A8#32
  | 8 => 0xBFDC88E2#32
  | 9 => 0xBF6A82C2#32
  | 10 => 0xBF30EDD2#32
  | 11 => 0x4000F345#32
  | 12 => 0x3F65AF5C#32
  | 13 => 0xBFD0D9E3#32
  | 14 => 0x3F46BF7B#32
  | 15 => 0x3F29A37E#32
  | 16 => 0x3FFEFAD5#32
  | 17 => 0x3E5E43A7#32
  | 18 => 0x3FBCF24C#32
  | 19 => 0x3EB584E0#32
  | 20 => 0xBDDDBC87#32
  | 21 => 0x408D6599#32
  | 22 => 0x3F7E49FE#32
  | 23 => 0x3F6011F9#32
  | 24 => 0xBEFB1C63#32
  | 25 => 0xBD1D0B94#32
  | 26 => 0x3F4E6C61#32
  | 27 => 0xBF3CD08A#32
  | 28 => 0x3F8B40D4#32
  | 29 => 0xBEB74FB8#32
  | 30 => 0x3EB2B9A4#32
  | 31 => 0x3FC8E9F5#32
  | 32 => 0x3F0766C6#32
  | 33 => 0xBBFE844D#32
  | 34 => 0x3F88D1E8#32
  | 35 => 0x3FFB29DB#32
  | 36 => 0x3F8F18FF#32
  | 37 => 0x3F2A7E40#32
  | 38 => 0x3FF74523#32
  | 39 => 0x401A0A47#32
  | 40 => 0x3FD886AB#32
  | 41 => 0xBEAA89AF#32
  | 42 => 0x3E909984#32
  | 43 => 0x3FA02A73#32
  | 44 => 0xBE37BF50#32
  | 45 => 0x3F2440AF#32
  | 46 => 0x3FA0AFEF#32
  | 47 => 0x3E92FEC6#32
  | 48 => 0x3E9C69B6#32
  | 49 => 0x403BA623#32
  | 50 => 0x3E3C2D71#32
  | 51 => 0xBF60BF26#32
  | 52 => 0x3EBDE3FD#32
  | 53 => 0xBF32A765#32
  | 54 => 0x4010DF93#32
  | 55 => 0xBE8BE00E#32
  | 56 => 0x3E468FDB#32
  | 57 => 0x40090E32#32
  | 58 => 0x3F711522#32
  | 59 => 0x3FAAB560#32
  | 60 => 0xBF6D1AF5#32
  | 61 => 0xBFAC6AC8#32
  | 62 => 0xBF0A8388#32
  | 63 => 0x3F6178FC#32
  | 64 => 0x40063B49#32
  | 65 => 0x3F3C67AA#32
  | 66 => 0x3F9D40F6#32
  | 67 => 0xBF647A54#32
  | 68 => 0x3F1A3D1D#32
  | 69 => 0x40805FDE#32
  | 70 => 0xBE81A6F9#32
  | 71 => 0xBF8CF54A#32
  | 72 => 0xBE71C987#32
  | 73 => 0xBCE7C2C3#32
  | 74 => 0x3FA5CE56#32
  | 75 => 0x4044489C#32
  | 76 => 0xBFB8CDF2#32
  | 77 => 0xBF03DAA3#32
  | 78 => 0xBE842C98#32
  | 79 => 0x3F9EA9BB#32
  | 80 => 0x3F5702EB#32
  | 81 => 0x3EF3262C#32
  | 82 => 0x3F72B3CC#32
  | 83 => 0x3E341E93#32
  | 84 => 0x3F0E2C4A#32
  | 85 => 0x3F29476E#32
  | 86 => 0x3FB75969#32
  | 87 => 0xBFBB4E5E#32
  | 88 => 0x3EFC1716#32
  | 89 => 0x3F833E18#32
  | 90 => 0x3FF5F9F5#32
  | 91 => 0x3F84E5E2#32
  | 92 => 0x3E110440#32
  | 93 => 0x40121B56#32
  | 94 => 0x401A5EDB#32
  | 95 => 0xBBD39EB1#32
  | 96 => 0xBF5D6F7C#32
  | 97 => 0x3F8B1404#32
  | 98 => 0x3E9689B1#32
  | 99 => 0xBEC1D654#32
  | 100 => 0x40239A3C#32
  | 101 => 0x4036B4F7#32
  | 102 => 0xBF6F6EC7#32
  | 103 => 0x3EC06D22#32
  | 104 => 0x406CE019#32
  | 105 => 0xBE2D1C2D#32
  | 106 => 0xBE3A15DA#32
  | 107 => 0x3FAE528E#32
  | 108 => 0x3FD24F2A#32
  | 109 => 0x3D92502C#32
  | 110 => 0xBED02958#32
  | 111 => 0x3EF39611#32
  | 112 => 0x4004562C#32
  | 113 => 0x408DF14D#32
  | 114 => 0xBF0AF601#32
  | 115 => 0x3F9BFA72#32
  | 116 => 0x40427C3A#32
  | 117 => 0x3EE8E102#32
  | 118 => 0x3F82D560#32
  | 119 => 0xBEB3EE55#32
  | 120 => 0x3FDDE843#32
  | 121 => 0xBF2637E0#32
  | 122 => 0x3E84083A#32
  | 123 => 0xBF854265#32
  | 124 => 0xBE4D1B36#32
  | 125 => 0x3E5BA8C8#32
  | 126 => 0x400788CF#32
  | 127 => 0xBFDEE807#32
  | _ => 0#32

noncomputable abbrev lit0t0_340 (i : Nat) : BitVec 32 := match i % 128 with
  | 0 => 0xBF9D1AE5#32
  | 1 => 0xBE3AB970#32
  | 2 => 0x40565F31#32
  | 3 => 0xBF893EE9#32
  | 4 => 0xBECA6A59#32
  | 5 => 0x3E07A0B7#32
  | 6 => 0x40610048#32
  | 7 => 0xBE99203B#32
  | 8 => 0x3FD6A09A#32
  | 9 => 0x3F10A120#32
  | 10 => 0x3E09CDAF#32
  | 11 => 0xBFA7554B#32
  | 12 => 0xBECD262E#32
  | 13 => 0xBE18454A#32
  | 14 => 0x3F91CFDC#32
  | 15 => 0xBE60D97A#32
  | 16 => 0x3D1AF2EA#32
  | 17 => 0x3FB73156#32
  | 18 => 0x3FDFEF88#32
  | 19 => 0xBDAD9468#32
  | 20 => 0x3FC714AA#32
  | 21 => 0xBEB1A9F4#32
  | 22 => 0x3EFE17A0#32
  | 23 => 0xBE0008A7#32
  | 24 => 0x3F4035C7#32
  | 25 => 0xBF78AC49#32
  | 26 => 0x4022F427#32
  | 27 => 0xBEC40C76#32
  | 28 => 0xBF6EFAFB#32
  | 29 => 0x3FD6777F#32
  | 30 => 0xBF91034A#32
  | 31 => 0xBFB1F312#32
  | 32 => 0xBE8CDB9A#32
  | 33 => 0x3FE0B287#32
  | 34 => 0xBF0BF5EA#32
  | 35 => 0xBDF2BADE#32
  | 36 => 0xBFACDDEB#32
  | 37 => 0xBF3DE1C9#32
  | 38 => 0x3FF3E984#32
  | 39 => 0xBFE0DAAA#32
  | 40 => 0xBE72172D#32
  | 41 => 0x3F41DB3B#32
  | 42 => 0xBF2C5437#32
  | 43 => 0x3FB94C79#32
  | 44 => 0xBFDC137F#32
  | 45 => 0x3FBF40F9#32
  | 46 => 0x3EB4488F#32
  | 47 => 0xBECB2D9C#32
  | 48 => 0x39E26C84#32
  | 49 => 0x3F40F4A4#32
  | 50 => 0xBD93745D#32
  | 51 => 0xBE54D00B#32
  | 52 => 0xBEA9B49A#32
  | 53 => 0x3EE6370E#32
  | 54 => 0x3F7343D0#32
  | 55 => 0x4028E092#32
  | 56 => 0x3F2D5D12#32
  | 57 => 0x3FA2E8D0#32
  | 58 => 0xBC4D3D09#32
  | 59 => 0xBF43C6CC#32
  | 60 => 0x3F58CB64#32
  | 61 => 0x3E62D67B#32
  | 62 => 0x403A2579#32
  | 63 => 0x3EDDD534#32
  | 64 => 0xBF6FEBB2#32
  | 65 => 0xBFC5E234#32
  | 66 => 0x3FA8DA11#32
  | 67 => 0x3ED6B578#32
  | 68 => 0x3FE293B4#32
  | 69 => 0xBF89D446#32
  | 70 => 0x3F043790#32
  | 71 => 0x40093071#32
  | 72 => 0xBF6F86C5#32
  | 73 => 0x4052F431#32
  | 74 => 0x3FF5EC16#32
  | 75 => 0x3E5C38F7#32
  | 76 => 0x3E8117AF#32
  | 77 => 0x3F9F0EAA#32
  | 78 => 0x4047F78D#32
  | 79 => 0xBE798174#32
  | 80 => 0xBC4C0478#32
  | 81 => 0x4007CC2A#32
  | 82 => 0xBE4C3F95#32
  | 83 => 0x3F7CA45E#32
  | 84 => 0x3E01639C#32
  | 85 => 0x3F28454F#32
  | 86 => 0x3D579518#32
  | 87 => 0x400ADE4A#32
  | 88 => 0xBF27A66F#32
  | 89 => 0x40137CBE#32
  | 90 => 0x3B9DFC57#32
  | 91 => 0x3F82676D#32
  | 92 => 0xBF247931#32
  | 93 => 0xBF224A47#32
  | 94 => 0x3F79251A#32
  | 95 => 0x3FE4323A#32
  | 96 => 0xBF593209#32
  | 97 => 0xBF5F0ADB#32
  | 98 => 0x3FEEA504#32
  | 99 => 0x408AEDDB#32
  | 100 => 0xBED9EADD#32
  | 101 => 0x3F2B0E17#32
  | 102 => 0x3D71962B#32
  | 103 => 0x3FC8885B#32
  | 104 => 0x3EA9C6C7#32
  | 105 => 0x409B038A#32
  | 106 => 0x3E7F78B5#32
  | 107 => 0xBFD0EFBE#32
  | 108 => 0xBE9424A9#32
  | 109 => 0xBDF6FC27#32
  | 110 => 0xBF5F011D#32
  | 111 => 0x3F8918B1#32
  | 112 => 0xBD2A999B#32
  | 113 => 0xBD93BABB#32
  | 114 => 0xBE88DBC7#32
  | 115 => 0x400394E6#32
  | 116 => 0x3D4D659B#32
  | 117 => 0x3FB21D8F#32
  | 118 => 0x3FA89403#32
  | 119 => 0xBF2126F4#32
  | 120 => 0x3F0921E0#32
  | 121 => 0x3FCD6B29#32
  | 122 => 0x3F7E68C5#32
  | 123 => 0x3BEAE27F#32
  | 124 => 0xBF4B0B40#32
  | 125 => 0x3F1496A2#32
  | 126 => 0xBF066867#32
  | 127 => 0x40194ECF#32
  | _ => 0#32

noncomputable abbrev lit0t0_341 (i : Nat) : BitVec 32 := match i % 128 with
  | 0 => 0xBE673CF4#32
  | 1 => 0x3FF9B346#32
  | 2 => 0xBEE43508#32
  | 3 => 0xBF212334#32
  | 4 => 0xBE06A65D#32
  | 5 => 0xBF410305#32
  | 6 => 0xBF0B9168#32
  | 7 => 0xBE471AD0#32
  | 8 => 0xBF485FCA#32
  | 9 => 0x402AA84D#32
  | 10 => 0x3FEFDD4D#32
  | 11 => 0xBDB132F0#32
  | 12 => 0xBF064EB9#32
  | 13 => 0x401130D6#32
  | 14 => 0x3BC9CEC2#32
  | 15 => 0xBFA73D8E#32
  | 16 => 0x3FA6B0DA#32
  | 17 => 0x3FE22FDD#32
  | 18 => 0x3F11F5B6#32
  | 19 => 0xBDC941D8#32
  | 20 => 0xBD2C030B#32
  | 21 => 0xBDFB07ED#32
  | 22 => 0xBF24F139#32
  | 23 => 0x3EE4120D#32
  | 24 => 0xBE494C45#32
  | 25 => 0x3E0CF347#32
  | 26 => 0xBF22E7D2#32
  | 27 => 0x3FA4F4A5#32
  | 28 => 0x3D585FE2#32
  | 29 => 0x3FA41F3F#32
  | 30 => 0xBEAEF4AE#32
  | 31 => 0x3F7853D2#32
  | 32 => 0x3DDBC4AE#32
  | 33 => 0x3FA4F2D5#32
  | 34 => 0x3FFA2752#32
  | 35 => 0xBC05B9E9#32
  | 36 => 0x3FC45F0E#32
  | 37 => 0x3F7C60C8#32
  | 38 => 0x3FF7BE36#32
  | 39 => 0x3ECB669D#32
  | 40 => 0x3FA5ECCC#32
  | 41 => 0x3FAE822D#32
  | 42 => 0x3F9C6315#32
  | 43 => 0x3F1AC5C9#32
  | 44 => 0x3E36E407#32
  | 45 => 0x3C920779#32
  | 46 => 0x3F3D8FEB#32
  | 47 => 0xBF21CF21#32
  | 48 => 0x3F814B5D#32
  | 49 => 0x3FA68D7A#32
  | 50 => 0x3F7CD7AE#32
  | 51 => 0x3CCA2F00#32
  | 52 => 0xBF46B6DD#32
  | 53 => 0xBDCDB88A#32
  | 54 => 0x3F81D4D7#32
  | 55 => 0xBF2F921B#32
  | 56 => 0x3F4D1854#32
  | 57 => 0x3F38BFD2#32
  | 58 => 0x3F0CADC1#32
  | 59 => 0xBF4E84D2#32
  | 60 => 0xBF82F970#32
  | 61 => 0x40085FF7#32
  | 62 => 0xBF59571F#32
  | 63 => 0xBF2D8D35#32
  | 64 => 0x400B70E2#32
  | 65 => 0x3F336E9C#32
  | 66 => 0xBED75C75#32
  | 67 => 0xBE674EDB#32
  | 68 => 0x3EE0557D#32
  | 69 => 0x3F44EB41#32
  | 70 => 0x3E65F8DE#32
  | 71 => 0xBE51A30B#32
  | 72 => 0xBEC4861E#32
  | 73 => 0x3E643497#32
  | 74 => 0x3F2F449F#32
  | 75 => 0x3F46D35C#32
  | 76 => 0x3E2EA712#32
  | 77 => 0xBF816B80#32
  | 78 => 0xBF35064B#32
  | 79 => 0xBF447A67#32
  | 80 => 0x3F3F4CB6#32
  | 81 => 0x3F26EDA7#32
  | 82 => 0xBF4832BC#32
  | 83 => 0x3FDECB0B#32
  | 84 => 0x3FC2D018#32
  | 85 => 0xBF117CF3#32
  | 86 => 0xBDD3DDB1#32
  | 87 => 0x3E9939DC#32
  | 88 => 0xBFB13B82#32
  | 89 => 0x3ED7F149#32
  | 90 => 0x3F4202D5#32
  | 91 => 0xBF7752B9#32
  | 92 => 0xBF0209A3#32
  | 93 => 0xBF1F5EA2#32
  | 94 => 0x4060B228#32
  | 95 => 0x3F748A92#32
  | 96 => 0x3E20964C#32
  | 97 => 0x407C8F30#32
  | 98 => 0x3FA58246#32
  | 99 => 0x3F506C38#32
  | 100 => 0x3E98858E#32
  | 101 => 0xBE853330#32
  | 102 => 0x3E674668#32
  | 103 => 0x3F3536B4#32
  | 104 => 0x4011F6BA#32
  | 105 => 0x3FFD179A#32
  | 106 => 0x3F8D2ABC#32
  | 107 => 0xBF44523C#32
  | 108 => 0x3F33B85C#32
  | 109 => 0xBF84394C#32
  | 110 => 0x3F913793#32
  | 111 => 0xBEE72F35#32
  | 112 => 0x3F624B05#32
  | 113 => 0x405C0058#32
  | 114 => 0x406A1DE0#32
  | 115 => 0x3F1EEE57#32
  | 116 => 0x3F55E5F6#32
  | 117 => 0xBE9A9681#32
  | 118 => 0x3F0803F3#32
  | 119 => 0x3DD638B4#32
  | 120 => 0xBF53CD5B#32
  | 121 => 0x3FF8BAAD#32
  | 122 => 0x3FE70F82#32
  | 123 => 0x3FDE1F29#32
  | 124 => 0x3F071091#32
  | 125 => 0x3F2ABA0B#32
  | 126 => 0x40708C68#32
  | 127 => 0xBEF4D626#32
  | _ => 0#32

noncomputable abbrev lit0t0_342 (i : Nat) : BitVec 32 := match i % 128 with
  | 0 => 0xBE86FBC2#32
  | 1 => 0x4032C5A8#32
  | 2 => 0xBFBFE07A#32
  | 3 => 0xBF80A77A#32
  | 4 => 0xBED2F94D#32
  | 5 => 0x3D8A5BCB#32
  | 6 => 0x3F41D1C0#32
  | 7 => 0x4022B5C4#32
  | 8 => 0x406B46C8#32
  | 9 => 0x3EDE0328#32
  | 10 => 0x3FCA399A#32
  | 11 => 0x3F161D4B#32
  | 12 => 0xBD5AF043#32
  | 13 => 0x3F8C7717#32
  | 14 => 0x40108B05#32
  | 15 => 0x400B5594#32
  | 16 => 0xBF79622E#32
  | 17 => 0x3FB53077#32
  | 18 => 0xBF992D53#32
  | 19 => 0x3FD8E52D#32
  | 20 => 0x3FE1EDC3#32
  | 21 => 0xBF2C24E1#32
  | 22 => 0x3E7A40D5#32
  | 23 => 0x3FC785C5#32
  | 24 => 0x3FAD0ED3#32
  | 25 => 0xBDED4927#32
  | 26 => 0x3F447FFA#32
  | 27 => 0xBF55A232#32
  | 28 => 0xBE9F1768#32
  | 29 => 0x401478DE#32
  | 30 => 0xBF01427C#32
  | 31 => 0x3F6E04F5#32
  | 32 => 0x3F8F860A#32
  | 33 => 0x3EDB6D28#32
  | 34 => 0x402840D2#32
  | 35 => 0x3F3EF34C#32
  | 36 => 0xBFB0EE97#32
  | 37 => 0xBE9F82EE#32
  | 38 => 0x3F49F07F#32
  | 39 => 0x40079A40#32
  | 40 => 0xBF318C8F#32
  | 41 => 0xBCF56E94#32
  | 42 => 0x3FB57B74#32
  | 43 => 0x3E8FDD40#32
  | 44 => 0xBF89310F#32
  | 45 => 0x3F94B86D#32
  | 46 => 0x3DE51268#32
  | 47 => 0xBDF8933C#32
  | 48 => 0x3E624F9D#32
  | 49 => 0x404C2552#32
  | 50 => 0x3F3C34EF#32
  | 51 => 0x3FB42605#32
  | 52 => 0x3FBD7B05#32
  | 53 => 0xBF6C704B#32
  | 54 => 0xBEBE758D#32
  | 55 => 0xBE005EFC#32
  | 56 => 0x40ADB784#32
  | 57 => 0xBF557945#32
  | 58 => 0xBF5466C6#32
  | 59 => 0x3E3A8D0C#32
  | 60 => 0x3FAAB735#32
  | 61 => 0x3FB903B1#32
  | 62 => 0x3E6D8037#32
  | 63 => 0x3FC84FF9#32
  | 64 => 0x40458065#32
  | 65 => 0x3F04BEFE#32
  | 66 => 0xBF31CF0F#32
  | 67 => 0x3EA7FD4D#32
  | 68 => 0x3FC5169A#32
  | 69 => 0x40285E51#32
  | 70 => 0xBF123D3A#32
  | 71 => 0xBF15F246#32
  | 72 => 0x3ECBA9D3#32
  | 73 => 0x3FA9613F#32
  | 74 => 0xBF11B2BA#32
  | 75 => 0x3F401C69#32
  | 76 => 0x400B94FA#32
  | 77 => 0xBE5A9A44#32
  | 78 => 0x3E166BB0#32
  | 79 => 0x3E56A87D#32
  | 80 => 0x3FB0781E#32
  | 81 => 0x3F990090#32
  | 82 => 0x402D3906#32
  | 83 => 0x3F8DB5DA#32
  | 84 => 0x3F95C4CC#32
  | 85 => 0xBE176870#32
  | 86 => 0x3FA2283A#32
  | 87 => 0xBD12BB16#32
  | 88 => 0xBFBED161#32
  | 89 => 0x3EE5D397#32
  | 90 => 0x4085A250#32
  | 91 => 0xBF9AE8D9#32
  | 92 => 0x3E448614#32
  | 93 => 0x3F37E155#32
  | 94 => 0x402BACC7#32
  | 95 => 0x3EE6490C#32
  | 96 => 0x3F955C92#32
  | 97 => 0x408648E0#32
  | 98 => 0x3FE5910E#32
  | 99 => 0x3CB9A4B3#32
  | 100 => 0xBEE61884#32
  | 101 => 0x40289682#32
  | 102 => 0x3E818022#32
  | 103 => 0xBF675A08#32
  | 104 => 0x3FF4F3A7#32
  | 105 => 0x3FB90F87#32
  | 106 => 0xBE835705#32
  | 107 => 0xBC0CDC8A#32
  | 108 => 0x3D07E96B#32
  | 109 => 0xBF267032#32
  | 110 => 0x401135EC#32
  | 111 => 0x3FDD9419#32
  | 112 => 0xBEEF2BAE#32
  | 113 => 0xBE39B5E4#32
  | 114 => 0x3FBFE313#32
  | 115 => 0x3E473555#32
  | 116 => 0x3F8C6572#32
  | 117 => 0x3F923E18#32
  | 118 => 0x3FE43699#32
  | 119 => 0x3FE723C1#32
  | 120 => 0xBF81382D#32
  | 121 => 0xBE955D68#32
  | 122 => 0x3E62B627#32
  | 123 => 0xBE57A2BF#32
  | 124 => 0x40A6DE27#32
  | 125 => 0xBF235CF9#32
  | 126 => 0x3FE41450#32
  | 127 => 0x3FC7CB2A#32
  | _ => 0#32

noncomputable abbrev lit0t0_343 (i : Nat) : BitVec 32 := match i % 128 with
  | 0 => 0x3DCD75A3#32
  | 1 => 0xBE4BAC52#32
  | 2 => 0xBF77D030#32
  | 3 => 0x402954D5#32
  | 4 => 0x3EC53ADB#32
  | 5 => 0x3FFCAAB6#32
  | 6 => 0x3D947624#32
  | 7 => 0x3FAF8299#32
  | 8 => 0xBD9E5FA9#32
  | 9 => 0x405F1266#32
  | 10 => 0x3FEF301C#32
  | 11 => 0xBE6030B4#32
  | 12 => 0x3FC56EAA#32
  | 13 => 0xBF1FDC78#32
  | 14 => 0x3F1BFCF6#32
  | 15 => 0x3E309720#32
  | 16 => 0xBF9B9DA1#32
  | 17 => 0x3EB55C7D#32
  | 18 => 0x4001C015#32
  | 19 => 0x3F388E5C#32
  | 20 => 0x3FC720A9#32
  | 21 => 0x3F4DAC59#32
  | 22 => 0xBFE69902#32
  | 23 => 0xBE4F50C9#32
  | 24 => 0x405CB460#32
  | 25 => 0x3F0199A5#32
  | 26 => 0x3F77BA7F#32
  | 27 => 0x3F9BC1CC#32
  | 28 => 0x3E4AB4A1#32
  | 29 => 0x3D8E4226#32
  | 30 => 0xBF86EDFC#32
  | 31 => 0xBE783C75#32
  | 32 => 0xBF8A0EFA#32
  | 33 => 0xBF8D6280#32
  | 34 => 0xBEA70B0F#32
  | 35 => 0x3FB05CE5#32
  | 36 => 0x3FC3B161#32
  | 37 => 0xBF8E035F#32
  | 38 => 0x3F985573#32
  | 39 => 0x4007E05F#32
  | 40 => 0x3DB83F02#32
  | 41 => 0x3D6EFFDF#32
  | 42 => 0x3E6FA07C#32
  | 43 => 0x3FDBAB0A#32
  | 44 => 0xBF814A4B#32
  | 45 => 0x3F183F8C#32
  | 46 => 0x3F70B50B#32
  | 47 => 0x3EB0AFB0#32
  | 48 => 0x3ED431E3#32
  | 49 => 0x3FB10D95#32
  | 50 => 0x408BAE2A#32
  | 51 => 0xBF66E806#32
  | 52 => 0x3F04152E#32
  | 53 => 0x3F9AD93D#32
  | 54 => 0xBF14596E#32
  | 55 => 0x3FF085B3#32
  | 56 => 0x3EB27F6D#32
  | 57 => 0xBE764887#32
  | 58 => 0x3CE8E507#32
  | 59 => 0x3D183886#32
  | 60 => 0x3CA99F38#32
  | 61 => 0x3D5D80A6#32
  | 62 => 0x3F81DC5E#32
  | 63 => 0x3E2B3EA2#32
  | 64 => 0x3F38BD00#32
  | 65 => 0x3F92C35C#32
  | 66 => 0x3F8E4C88#32
  | 67 => 0x3DA2879C#32
  | 68 => 0xBEE5835B#32
  | 69 => 0x3F0882D3#32
  | 70 => 0x3FF57212#32
  | 71 => 0xBF1BFBA9#32
  | 72 => 0x3F5F20E7#32
  | 73 => 0xBE907099#32
  | 74 => 0x3F9C662D#32
  | 75 => 0xBE25CC22#32
  | 76 => 0xBF834E98#32
  | 77 => 0xBD50D0EA#32
  | 78 => 0xBF09D578#32
  | 79 => 0x3F8DBED4#32
  | 80 => 0x3E234B79#32
  | 81 => 0x400F03D2#32
  | 82 => 0x3F27A08D#32
  | 83 => 0xBEDC4C8D#32
  | 84 => 0x3EF21264#32
  | 85 => 0xBFA288D5#32
  | 86 => 0x3D96D4BA#32
  | 87 => 0x3E781A79#32
  | 88 => 0xBF37F1A5#32
  | 89 => 0xBF368953#32
  | 90 => 0xBF8E5F15#32
  | 91 => 0xBEA27943#32
  | 92 => 0x4068190A#32
  | 93 => 0xBF029BDE#32
  | 94 => 0x3DAE66F5#32
  | 95 => 0x3FA9AA72#32
  | 96 => 0xBE7A25CB#32
  | 97 => 0xBE4A4E07#32
  | 98 => 0x3FA9F271#32
  | 99 => 0xBF69D9B2#32
  | 100 => 0x3FDE382A#32
  | 101 => 0x3F0BC30A#32
  | 102 => 0xBF060D96#32
  | 103 => 0x400554C0#32
  | 104 => 0x404C11E9#32
  | 105 => 0x3CA2DC11#32
  | 106 => 0x3F8009E6#32
  | 107 => 0xBE42C7A5#32
  | 108 => 0x3F54104B#32
  | 109 => 0xBEABAB38#32
  | 110 => 0xBF6B0AE0#32
  | 111 => 0x3F1D14AC#32
  | 112 => 0x400AB711#32
  | 113 => 0x3FCC8805#32
  | 114 => 0xBE56D51A#32
  | 115 => 0x40513353#32
  | 116 => 0x3FA97479#32
  | 117 => 0x3F2221AE#32
  | 118 => 0x3E0179F3#32
  | 119 => 0xBFAEE47D#32
  | 120 => 0x3F769296#32
  | 121 => 0x3E46A048#32
  | 122 => 0x3EC7E0ED#32
  | 123 => 0xBD7F0EED#32
  | 124 => 0x3E6EC748#32
  | 125 => 0x3F9F404B#32
  | 126 => 0x3FB2847B#32
  | 127 => 0x3F6F4F0C#32
  | _ => 0#32

noncomputable abbrev lit0t0_344 (i : Nat) : BitVec 32 := match i % 128 with
  | 0 => 0xB9AB78D2#32
  | 1 => 0x4007E441#32
  | 2 => 0x3EBB6FBA#32
  | 3 => 0xBCC7B347#32
  | 4 => 0x3FB512FB#32
  | 5 => 0xBEE19BE9#32
  | 6 => 0x3F876672#32
  | 7 => 0xBF3AD60F#32
  | 8 => 0x3F93F626#32
  | 9 => 0xBEF6DFFC#32
  | 10 => 0x3FD8ACCC#32
  | 11 => 0x3F38C800#32
  | 12 => 0x3F56F09D#32
  | 13 => 0x3EC851D2#32
  | 14 => 0x3E9E3A4E#32
  | 15 => 0x3FC04324#32
  | 16 => 0x40004C5B#32
  | 17 => 0xBE3E972F#32
  | 18 => 0xBCDCD4A2#32
  | 19 => 0x3D8B63B9#32
  | 20 => 0x3F5CB401#32
  | 21 => 0xBF4D9B06#32
  | 22 => 0xBFB79A3C#32
  | 23 => 0x3C26C40A#32
  | 24 => 0x3FBE233D#32
  | 25 => 0x40602054#32
  | 26 => 0xBFB76B60#32
  | 27 => 0x3F5F5B4A#32
  | 28 => 0xBD11D720#32
  | 29 => 0x3F83F0DC#32
  | 30 => 0x3DEC8CBB#32
  | 31 => 0x3FB3E2D3#32
  | 32 => 0x3F5509D5#32
  | 33 => 0x3EFC562C#32
  | 34 => 0xBE24AC66#32
  | 35 => 0x3FB14BD2#32
  | 36 => 0x3FF4639B#32
  | 37 => 0x402130AD#32
  | 38 => 0xBF2AA869#32
  | 39 => 0x3F9E2D42#32
  | 40 => 0x3F1693C4#32
  | 41 => 0xBE40D43B#32
  | 42 => 0x3F833B9D#32
  | 43 => 0x3F80B7F3#32
  | 44 => 0xBEF4E242#32
  | 45 => 0x3F0A1CF8#32
  | 46 => 0x3EEEFDDF#32
  | 47 => 0x3F3F44D8#32
  | 48 => 0xBF43740A#32
  | 49 => 0xBD4BCF40#32
  | 50 => 0xBF83B1FC#32
  | 51 => 0xBF0DA86C#32
  | 52 => 0x3F1B82E8#32
  | 53 => 0x3E93A17B#32
  | 54 => 0xBE8658F2#32
  | 55 => 0x3FC46D9A#32
  | 56 => 0x3F1B99A0#32
  | 57 => 0x3FA24D09#32
  | 58 => 0xBE1CF952#32
  | 59 => 0xBF55A232#32
  | 60 => 0x3FA69356#32
  | 61 => 0xBFD21AB0#32
  | 62 => 0xBDEFD038#32
  | 63 => 0xBE9CC28B#32
  | 64 => 0x40860B93#32
  | 65 => 0x3FCB2416#32
  | 66 => 0xBF31DEA5#32
  | 67 => 0xBE8D67E4#32
  | 68 => 0xBD84C0BA#32
  | 69 => 0x3FA0B89C#32
  | 70 => 0x3F9E861E#32
  | 71 => 0x3EF7D6E2#32
  | 72 => 0xBECE2C8E#32
  | 73 => 0x3F0CCE65#32
  | 74 => 0x3FDF8953#32
  | 75 => 0x3E187010#32
  | 76 => 0xBF43AD9F#32
  | 77 => 0xBDCB4E2A#32
  | 78 => 0x3EC13A1A#32
  | 79 => 0x3FD7AEA2#32
  | 80 => 0x3F582FD6#32
  | 81 => 0xBE810635#32
  | 82 => 0x3F9683B7#32
  | 83 => 0x3F961D2C#32
  | 84 => 0x3D77FE1E#32
  | 85 => 0xBEDE1868#32
  | 86 => 0xBD2135F6#32
  | 87 => 0x3F66D26A#32
  | 88 => 0x40687DD4#32
  | 89 => 0x40044469#32
  | 90 => 0x3F229E3D#32
  | 91 => 0x3FC6032A#32
  | 92 => 0xBF8F6C2C#32
  | 93 => 0x4048822F#32
  | 94 => 0x3FBB814F#32
  | 95 => 0xBF22F0CC#32
  | 96 => 0x4003B76F#32
  | 97 => 0x3F4D944C#32
  | 98 => 0x4056ECB0#32
  | 99 => 0x402492B8#32
  | 100 => 0x3F1E13BC#32
  | 101 => 0xBFD982B4#32
  | 102 => 0x3F400722#32
  | 103 => 0xBE2E508A#32
  | 104 => 0x3FB72E23#32
  | 105 => 0x3F6EC579#32
  | 106 => 0x3F3B3998#32
  | 107 => 0x3DCC1CCA#32
  | 108 => 0x3F3376F5#32
  | 109 => 0xBF8A0AFB#32
  | 110 => 0x400F65B6#32
  | 111 => 0x4000DC81#32
  | 112 => 0x3ED5F43C#32
  | 113 => 0xBDF51314#32
  | 114 => 0xBF11C30F#32
  | 115 => 0x3FB03547#32
  | 116 => 0x3F8AA2C9#32
  | 117 => 0xBF3A98B7#32
  | 118 => 0x3EAA4B83#32
  | 119 => 0xBF0AAC18#32
  | 120 => 0x3F8FCBB2#32
  | 121 => 0x3D7EFA4B#32
  | 122 => 0x3F017CC1#32
  | 123 => 0x3F412645#32
  | 124 => 0x403455DF#32
  | 125 => 0xBF821F79#32
  | 126 => 0xBEC4B9A4#32
  | 127 => 0x3F9F3786#32
  | _ => 0#32

noncomputable abbrev lit0t0_345 (i : Nat) : BitVec 32 := match i % 128 with
  | 0 => 0x3CF0DC88#32
  | 1 => 0x3D15B88D#32
  | 2 => 0x40216726#32
  | 3 => 0xBE7B7D1A#32
  | 4 => 0x3F0CA1DE#32
  | 5 => 0xBCF8EDE7#32
  | 6 => 0x3F16CEBD#32
  | 7 => 0x3D098258#32
  | 8 => 0x3F262D30#32
  | 9 => 0x3FA60BB9#32
  | 10 => 0x3F9D2765#32
  | 11 => 0xBDA8642F#32
  | 12 => 0xBF2B8D87#32
  | 13 => 0x3FD849F6#32
  | 14 => 0x3F6BAF2F#32
  | 15 => 0x3F438414#32
  | 16 => 0x40322C57#32
  | 17 => 0xBEEAB3AF#32
  | 18 => 0xBF2DF488#32
  | 19 => 0x3E139603#32
  | 20 => 0x3F002205#32
  | 21 => 0x3FABDAA2#32
  | 22 => 0xBF0EAB73#32
  | 23 => 0x3D4CD4A7#32
  | 24 => 0xBF8EC6B6#32
  | 25 => 0x3FAA2360#32
  | 26 => 0x3FE88B14#32
  | 27 => 0x3E7BF4A3#32
  | 28 => 0xBE67D864#32
  | 29 => 0xBFB801AD#32
  | 30 => 0x3F34191F#32
  | 31 => 0xBF1A26BE#32
  | 32 => 0x3D019418#32
  | 33 => 0xBF080855#32
  | 34 => 0x3C94F7E7#32
  | 35 => 0xBD9CB95E#32
  | 36 => 0xBEBB7C2D#32
  | 37 => 0x4039E595#32
  | 38 => 0x40678A32#32
  | 39 => 0x405C325D#32
  | 40 => 0xBF5FCC18#32
  | 41 => 0x3F0DF215#32
  | 42 => 0x3FBA4829#32
  | 43 => 0x3F0A3656#32
  | 44 => 0x3F32C1BC#32
  | 45 => 0x3E65A368#32
  | 46 => 0xBE184C59#32
  | 47 => 0x3E320551#32
  | 48 => 0x3F5C1556#32
  | 49 => 0x3F2E4BAB#32
  | 50 => 0xBCBFCC72#32
  | 51 => 0x3FA0C870#32
  | 52 => 0x3FBF4CB2#32
  | 53 => 0x3F443FA1#32
  | 54 => 0x3FADAC0C#32
  | 55 => 0x3F90BD4E#32
  | 56 => 0x402F8723#32
  | 57 => 0x4039679F#32
  | 58 => 0xBEFDD520#32
  | 59 => 0x3F95CC2A#32
  | 60 => 0x3F4F794D#32
  | 61 => 0x40A8F5BA#32
  | 62 => 0x3EE32657#32
  | 63 => 0x3D0810D5#32
  | 64 => 0x3F5C7855#32
  | 65 => 0xBE9ECBD9#32
  | 66 => 0x3F9E8696#32
  | 67 => 0xBF221CBB#32
  | 68 => 0xBE5C9E19#32
  | 69 => 0x3D6FBE70#32
  | 70 => 0xBEA4C648#32
  | 71 => 0x3FE8944D#32
  | 72 => 0xBF4316F7#32
  | 73 => 0x3FF927A8#32
  | 74 => 0xBF67A977#32
  | 75 => 0x3FA397A5#32
  | 76 => 0xBDBBD637#32
  | 77 => 0x3FA19F64#32
  | 78 => 0x3FFA9FB3#32
  | 79 => 0x3FD5B0BB#32
  | 80 => 0x3FD4BFEA#32
  | 81 => 0xBD16A65F#32
  | 82 => 0x4076AF8C#32
  | 83 => 0xBDABAEA2#32
  | 84 => 0x3FD50CF8#32
  | 85 => 0xBE2ADB5A#32
  | 86 => 0xBFEEA1FE#32
  | 87 => 0x40215650#32
  | 88 => 0xBF86B8B2#32
  | 89 => 0x3F40F67A#32
  | 90 => 0x3FFA783B#32
  | 91 => 0x3EF206FC#32
  | 92 => 0x3E1FE1D0#32
  | 93 => 0xBFA6349F#32
  | 94 => 0xBE026EA1#32
  | 95 => 0x3D291412#32
  | 96 => 0xBF43C071#32
  | 97 => 0xBE3E14B6#32
  | 98 => 0xBEE8BD46#32
  | 99 => 0x40336FA2#32
  | 100 => 0xBFD62B3B#32
  | 101 => 0xBEF61705#32
  | 102 => 0x3F81DECC#32
  | 103 => 0x3FC4DA2C#32
  | 104 => 0x3DB4C546#32
  | 105 => 0xBF1B303C#32
  | 106 => 0x3F20FE8D#32
  | 107 => 0xBFD08B5C#32
  | 108 => 0x3E73DE51#32
  | 109 => 0x40431A7C#32
  | 110 => 0xBE8570FE#32
  | 111 => 0x3F320C3C#32
  | 112 => 0x3F522F96#32
  | 113 => 0x3EB5FC4B#32
  | 114 => 0x3EF99030#32
  | 115 => 0xBF3D6D4B#32
  | 116 => 0xBF5CB9B4#32
  | 117 => 0x403E86C2#32
  | 118 => 0x3E268E57#32
  | 119 => 0xBF9BA41E#32
  | 120 => 0x3F1275EF#32
  | 121 => 0xBEB84EC6#32
  | 122 => 0x3FBB8C9E#32
  | 123 => 0xBF87A75C#32
  | 124 => 0xBFA24EDA#32
  | 125 => 0x3EC197D9#32
  | 126 => 0x3DC9E0BF#32
  | 127 => 0xBF8871A6#32
  | _ => 0#32

noncomputable abbrev lit0t0_346 (i : Nat) : BitVec 32 := match i % 128 with
  | 0 => 0xBEC3BC36#32
  | 1 => 0xBFAAF41B#32
  | 2 => 0xBF010F72#32
  | 3 => 0x3C2835CC#32
  | 4 => 0xBEC20834#32
  | 5 => 0x3F827778#32
  | 6 => 0x3E9CC278#32
  | 7 => 0x4007E8EE#32
  | 8 => 0x3FAF9EB7#32
  | 9 => 0xBF356349#32
  | 10 => 0x3F8AD15D#32
  | 11 => 0xBF18C08B#32
  | 12 => 0x3DC6B582#32
  | 13 => 0x400C6459#32
  | 14 => 0xBEABD798#32
  | 15 => 0x3EF3C18C#32
  | 16 => 0xBF43191C#32
  | 17 => 0x3E722042#32
  | 18 => 0x3ED3CE41#32
  | 19 => 0x4022B457#32
  | 20 => 0xBF2FA4C3#32
  | 21 => 0x3F5EEAFF#32
  | 22 => 0x3E8C40F3#32
  | 23 => 0xBF803018#32
  | 24 => 0xBF59B0DD#32
  | 25 => 0x3ED5580A#32
  | 26 => 0x3FD65B2C#32
  | 27 => 0xBEB1F1DD#32
  | 28 => 0x400631EF#32
  | 29 => 0xBDB3B621#32
  | 30 => 0x3F21A9EA#32
  | 31 => 0x3FD854E2#32
  | 32 => 0x3F9633B0#32
  | 33 => 0x3F903497#32
  | 34 => 0x3EC22C52#32
  | 35 => 0x3EB5AED5#32
  | 36 => 0x3FAB9F08#32
  | 37 => 0x3E8284AD#32
  | 38 => 0x3FE3BC5E#32
  | 39 => 0xBF4EACAF#32
  | 40 => 0x4003D5CC#32
  | 41 => 0x3FA003F0#32
  | 42 => 0xBE695AD1#32
  | 43 => 0xBBAD842F#32
  | 44 => 0x3E2A62F5#32
  | 45 => 0x3E85E2C6#32
  | 46 => 0xBFBC484E#32
  | 47 => 0x405531B2#32
  | 48 => 0xBE40CFE2#32
  | 49 => 0xBE627ED1#32
  | 50 => 0xBF860188#32
  | 51 => 0x3E7F2FB5#32
  | 52 => 0x3F6D5B7A#32
  | 53 => 0xBDBF24C7#32
  | 54 => 0xBE86532D#32
  | 55 => 0x3FF5FB72#32
  | 56 => 0xBD48AF20#32
  | 57 => 0xBF243F35#32
  | 58 => 0xBF0464D2#32
  | 59 => 0xBEE808BE#32
  | 60 => 0x3F442510#32
  | 61 => 0x3FBA2B3A#32
  | 62 => 0x3FF5E09A#32
  | 63 => 0x3FCB9A49#32
  | 64 => 0x3DE202C9#32
  | 65 => 0xBE44B84D#32
  | 66 => 0xBC63DF71#32
  | 67 => 0x404BBB65#32
  | 68 => 0xBF29C226#32
  | 69 => 0xBEB3A9A1#32
  | 70 => 0xBEEBD8C8#32
  | 71 => 0xBE9E2116#32
  | 72 => 0xBF403C46#32
  | 73 => 0x3EC404DF#32
  | 74 => 0x401A8F4E#32
  | 75 => 0xBF1D2049#32
  | 76 => 0x3FAD0C6C#32
  | 77 => 0x3F74E530#32
  | 78 => 0x3F53A807#32
  | 79 => 0xBF2BCC9B#32
  | 80 => 0xBE72AC63#32
  | 81 => 0xBE5E8E7D#32
  | 82 => 0xBFBE2947#32
  | 83 => 0x3E322D1F#32
  | 84 => 0xBEA22A35#32
  | 85 => 0x3F5D043D#32
  | 86 => 0x40B1520D#32
  | 87 => 0x404EC9C9#32
  | 88 => 0xBD3C361D#32
  | 89 => 0xBEF736BF#32
  | 90 => 0x3F306EB4#32
  | 91 => 0xBE9373CC#32
  | 92 => 0x3E8BF1EC#32
  | 93 => 0x40B97C12#32
  | 94 => 0x3EB8046F#32
  | 95 => 0xBC86776D#32
  | 96 => 0x3F73FBC2#32
  | 97 => 0xBD852E41#32
  | 98 => 0x3FBEEE9A#32
  | 99 => 0xBDFCD0D0#32
  | 100 => 0xBFB3C6DA#32
  | 101 => 0xBF06C1CE#32
  | 102 => 0xBF1CAE4F#32
  | 103 => 0x3F0A72E2#32
  | 104 => 0x3F12B0DA#32
  | 105 => 0x3D9D5A6F#32
  | 106 => 0x3F9D4291#32
  | 107 => 0x3FC1D51F#32
  | 108 => 0xBE1E0A55#32
  | 109 => 0xBF0F1DE8#32
  | 110 => 0xBE11148E#32
  | 111 => 0x3FE9C3BE#32
  | 112 => 0x3FED4135#32
  | 113 => 0x3DD30AEC#32
  | 114 => 0xBF104C02#32
  | 115 => 0xBE46E90E#32
  | 116 => 0x3F9BD530#32
  | 117 => 0x3FBDFD7A#32
  | 118 => 0xBFD096CC#32
  | 119 => 0x402D885B#32
  | 120 => 0xBF6397AC#32
  | 121 => 0x3E4C0C13#32
  | 122 => 0x4005B145#32
  | 123 => 0x3E84C521#32
  | 124 => 0x3E4AD542#32
  | 125 => 0xBBF1A35C#32
  | 126 => 0xBF09D02E#32
  | 127 => 0xBEBD26F8#32
  | _ => 0#32

noncomputable abbrev lit0t0_347 (i : Nat) : BitVec 32 := match i % 128 with
  | 0 => 0x3FAD0593#32
  | 1 => 0x3FDFD94B#32
  | 2 => 0x400479D1#32
  | 3 => 0x3F0F8F8D#32
  | 4 => 0x40135216#32
  | 5 => 0xBE1241B5#32
  | 6 => 0xBF01FB58#32
  | 7 => 0xBF59D8C0#32
  | 8 => 0x3F38268C#32
  | 9 => 0x3FE51812#32
  | 10 => 0xBF1CAFA6#32
  | 11 => 0x3FB35BBB#32
  | 12 => 0xBEED44DE#32
  | 13 => 0xBE6BB46A#32
  | 14 => 0xBE4C4B07#32
  | 15 => 0x3E910902#32
  | 16 => 0x3FE613D8#32
  | 17 => 0xBF235F93#32
  | 18 => 0x3FC923D8#32
  | 19 => 0x401CD494#32
  | 20 => 0x3F7FE072#32
  | 21 => 0xBF28E98D#32
  | 22 => 0x402E9DD7#32
  | 23 => 0x3F33282E#32
  | 24 => 0xBDD4973F#32
  | 25 => 0x4004B70E#32
  | 26 => 0x3FB0CA66#32
  | 27 => 0x3CFBB87D#32
  | 28 => 0x3F2DD92A#32
  | 29 => 0x3FDFE261#32
  | 30 => 0x3F3776ED#32
  | 31 => 0x400384E1#32
  | 32 => 0xBE4D0145#32
  | 33 => 0xBF7F8D9E#32
  | 34 => 0xBDDC7BBA#32
  | 35 => 0xBFB5A3E7#32
  | 36 => 0xBF95D991#32
  | 37 => 0x3FCF0B8B#32
  | 38 => 0x3F9BB1BA#32
  | 39 => 0x407484AF#32
  | 40 => 0xBF86F9A8#32
  | 41 => 0xBE6E774F#32
  | 42 => 0x4008AB52#32
  | 43 => 0xBF69B8C4#32
  | 44 => 0x3E493C96#32
  | 45 => 0xBEC0157E#32
  | 46 => 0x3F692B6A#32
  | 47 => 0xBDF5250B#32
  | 48 => 0x3F5D29A4#32
  | 49 => 0x3D002096#32
  | 50 => 0x3F930472#32
  | 51 => 0xBE86414F#32
  | 52 => 0x3E0EB413#32
  | 53 => 0x3F87904E#32
  | 54 => 0xBE4D02C2#32
  | 55 => 0x3F361A89#32
  | 56 => 0xBE6CB9D0#32
  | 57 => 0x402F647F#32
  | 58 => 0x3F0B6C76#32
  | 59 => 0xBF5AE6E4#32
  | 60 => 0x3FC52C7B#32
  | 61 => 0x4008FFDC#32
  | 62 => 0x3FA5D6EE#32
  | 63 => 0x3F1477F3#32
  | 64 => 0x3FE09E6F#32
  | 65 => 0x3FCE0E7C#32
  | 66 => 0x3E0B059B#32
  | 67 => 0x400133DA#32
  | 68 => 0x4028983B#32
  | 69 => 0x3FED832A#32
  | 70 => 0x40181E7C#32
  | 71 => 0xBE0737EC#32
  | 72 => 0x404A317D#32
  | 73 => 0xBFBE780A#32
  | 74 => 0x3F939B3A#32
  | 75 => 0x3FDF02C3#32
  | 76 => 0xBE0FE60E#32
  | 77 => 0x3F1E69D0#32
  | 78 => 0x4032B65E#32
  | 79 => 0x400FDFEE#32
  | 80 => 0xBEDC2AD8#32
  | 81 => 0xBD6ED5E5#32
  | 82 => 0x3E9BB1D5#32
  | 83 => 0x408CCC2B#32
  | 84 => 0x3FDF45BC#32
  | 85 => 0xBD2B134C#32
  | 86 => 0x3FF756C0#32
  | 87 => 0x3F3C8896#32
  | 88 => 0x4053ABBE#32
  | 89 => 0x3F85E25B#32
  | 90 => 0x3F8E963C#32
  | 91 => 0xBD9E327A#32
  | 92 => 0x404255C4#32
  | 93 => 0x3FD756D1#32
  | 94 => 0x3F3D258B#32
  | 95 => 0x3FEA74C8#32
  | 96 => 0x3FEF4E3F#32
  | 97 => 0x3F1D7C10#32
  | 98 => 0x3F92CA5C#32
  | 99 => 0x3F949B54#32
  | 100 => 0x3FE767DC#32
  | 101 => 0x3EDDC660#32
  | 102 => 0x3FBCF0F2#32
  | 103 => 0x3F744B1A#32
  | 104 => 0x3F684D53#32
  | 105 => 0x3ED5E0B5#32
  | 106 => 0xBD34089E#32
  | 107 => 0x3EC45F90#32
  | 108 => 0x3F707A16#32
  | 109 => 0xBF3B9142#32
  | 110 => 0xBF8FD56F#32
  | 111 => 0xBF48334E#32
  | 112 => 0x3F9EF321#32
  | 113 => 0xBF123E36#32
  | 114 => 0x3F9F011A#32
  | 115 => 0x3F300DDC#32
  | 116 => 0xBF5535D8#32
  | 117 => 0x3E0BC475#32
  | 118 => 0x3E895A82#32
  | 119 => 0xBDA52375#32
  | 120 => 0x3F6875D0#32
  | 121 => 0xBF4392BE#32
  | 122 => 0xBF041479#32
  | 123 => 0x3DAA5F67#32
  | 124 => 0x3E6E0857#32
  | 125 => 0x3EC114A5#32
  | 126 => 0xBF3B0D4F#32
  | 127 => 0x3F5ED62E#32
  | _ => 0#32

noncomputable abbrev lit0t0_348 (i : Nat) : BitVec 32 := match i % 128 with
  | 0 => 0xBF863FE9#32
  | 1 => 0x3F8E8E6C#32
  | 2 => 0x3E0F68CF#32
  | 3 => 0x3F9E8C6C#32
  | 4 => 0xBF1764E3#32
  | 5 => 0x4017D9C7#32
  | 6 => 0x3C5FB4B3#32
  | 7 => 0xBECBAA4E#32
  | 8 => 0xBF86F14C#32
  | 9 => 0x3FDF33B7#32
  | 10 => 0x400630C9#32
  | 11 => 0xBE60DB23#32
  | 12 => 0xBE34D3FC#32
  | 13 => 0xBE45E69E#32
  | 14 => 0x4051598B#32
  | 15 => 0x3E368556#32
  | 16 => 0x3FB222B1#32
  | 17 => 0x3F8A40D2#32
  | 18 => 0x3F6CD2FB#32
  | 19 => 0x3FA1177F#32
  | 20 => 0xBF5E19C9#32
  | 21 => 0xBF7FF27D#32
  | 22 => 0xBF3647BB#32
  | 23 => 0xBE3EA7A1#32
  | 24 => 0x4025DB66#32
  | 25 => 0x3D843A8A#32
  | 26 => 0x4012D331#32
  | 27 => 0x3F9C7764#32
  | 28 => 0xBEBA81A6#32
  | 29 => 0xBF3935BB#32
  | 30 => 0x3F1C2328#32
  | 31 => 0xBF6A7BB8#32
  | 32 => 0x3FA26D41#32
  | 33 => 0x3FCF2801#32
  | 34 => 0x40345205#32
  | 35 => 0x400742DE#32
  | 36 => 0xBF1896BE#32
  | 37 => 0x3ECAC32B#32
  | 38 => 0x401E8B69#32
  | 39 => 0xBF496F13#32
  | 40 => 0x3E60CDC1#32
  | 41 => 0x3F7EF7B4#32
  | 42 => 0xBE839DA4#32
  | 43 => 0xBCD4D50E#32
  | 44 => 0x3E8B8CB7#32
  | 45 => 0xBF8BE18B#32
  | 46 => 0xBFDC3471#32
  | 47 => 0x3E814105#32
  | 48 => 0x3F9A4E5D#32
  | 49 => 0x4008C498#32
  | 50 => 0xBED86C06#32
  | 51 => 0x3F7AA203#32
  | 52 => 0x3EB360E9#32
  | 53 => 0xBE62CDF0#32
  | 54 => 0x3D2A057B#32
  | 55 => 0x3F85EEDF#32
  | 56 => 0x401A4F2E#32
  | 57 => 0x4006B8D5#32
  | 58 => 0xBE9A250D#32
  | 59 => 0x40089316#32
  | 60 => 0xBEEC3173#32
  | 61 => 0x3DC39996#32
  | 62 => 0xBF90548F#32
  | 63 => 0x3F2A5C32#32
  | 64 => 0xBF562D26#32
  | 65 => 0x3E49EE15#32
  | 66 => 0xBF244E60#32
  | 67 => 0xBF82230F#32
  | 68 => 0x3E831D84#32
  | 69 => 0x3F8E7599#32
  | 70 => 0x3E78B3AD#32
  | 71 => 0x3FA31469#32
  | 72 => 0xBF1503FD#32
  | 73 => 0x3F81AD32#32
  | 74 => 0x400AD083#32
  | 75 => 0x3EF9AF44#32
  | 76 => 0x3F72EE74#32
  | 77 => 0x3FD662D8#32
  | 78 => 0x3F452AC8#32
  | 79 => 0x3FDF3C93#32
  | 80 => 0x3F0E0DFC#32
  | 81 => 0xBF053EC7#32
  | 82 => 0xBF08BE1C#32
  | 83 => 0xBE6BFBD2#32
  | 84 => 0xBF20EFE2#32
  | 85 => 0xBE9A568B#32
  | 86 => 0x3F05ACFF#32
  | 87 => 0x3E38C664#32
  | 88 => 0x3E8A2FAA#32
  | 89 => 0xBED67ABE#32
  | 90 => 0xBEA0EA76#32
  | 91 => 0x3F8B5781#32
  | 92 => 0xBD81B0F7#32
  | 93 => 0x3F5E1BEE#32
  | 94 => 0x401412E1#32
  | 95 => 0x3CB554DF#32
  | 96 => 0x3F40082B#32
  | 97 => 0x3B9FC50D#32
  | 98 => 0xBE04A4D4#32
  | 99 => 0x3F8CBF68#32
  | 100 => 0x3F0659D8#32
  | 101 => 0x3E311B63#32
  | 102 => 0xBDC9AC81#32
  | 103 => 0x3FCD4E08#32
  | 104 => 0xBF122A9F#32
  | 105 => 0xBFA0A438#32
  | 106 => 0x3C25F573#32
  | 107 => 0x3FF25939#32
  | 108 => 0xBEC94D3B#32
  | 109 => 0x40B1BCBE#32
  | 110 => 0x3FB2C488#32
  | 111 => 0x3EA4D85D#32
  | 112 => 0xBEA4D115#32
  | 113 => 0x3F733882#32
  | 114 => 0xBE82692C#32
  | 115 => 0xBF567424#32
  | 116 => 0x3E9285E1#32
  | 117 => 0xBE9BF21C#32
  | 118 => 0x3FF67DBD#32
  | 119 => 0xBF0D3751#32
  | 120 => 0xBF84E92F#32
  | 121 => 0xBEF679D4#32
  | 122 => 0x3FD932CE#32
  | 123 => 0x3F3DF97B#32
  | 124 => 0x3FCE6640#32
  | 125 => 0x3E04150F#32
  | 126 => 0xBD19013A#32
  | 127 => 0x3EA5BF9E#32
  | _ => 0#32

noncomputable abbrev lit0t0_349 (i : Nat) : BitVec 32 := match i % 128 with
  | 0 => 0xBF8C2B77#32
  | 1 => 0x3D0D222F#32
  | 2 => 0x3FAC4F69#32
  | 3 => 0x401A2744#32
  | 4 => 0x3D8454F1#32
  | 5 => 0x3FE0C057#32
  | 6 => 0xBE29D8A5#32
  | 7 => 0x3F7EB41F#32
  | 8 => 0x403892BA#32
  | 9 => 0x3FA97B82#32
  | 10 => 0x3FEFDB76#32
  | 11 => 0xBF8C303F#32
  | 12 => 0xBF1623AC#32
  | 13 => 0x40038861#32
  | 14 => 0xBEABFDD6#32
  | 15 => 0x3F666437#32
  | 16 => 0x3F9B718F#32
  | 17 => 0xBF9B4122#32
  | 18 => 0x3D5F0954#32
  | 19 => 0x3F1009ED#32
  | 20 => 0x3F061DC5#32
  | 21 => 0x3E71BB93#32
  | 22 => 0x3FCC6D6B#32
  | 23 => 0x3E440E4B#32
  | 24 => 0xBEB9E2C0#32
  | 25 => 0xBECC7387#32
  | 26 => 0x4107BEDB#32
  | 27 => 0xBF594E0D#32
  | 28 => 0x405A1DED#32
  | 29 => 0xBFA06B37#32
  | 30 => 0x3FA51273#32
  | 31 => 0x3CD61F4E#32
  | 32 => 0x403C5D7D#32
  | 33 => 0x3FFE7FDD#32
  | 34 => 0xBFE2C32C#32
  | 35 => 0x3E6E397A#32
  | 36 => 0xBE0E305C#32
  | 37 => 0x3F954B33#32
  | 38 => 0x3F07C737#32
  | 39 => 0x3FB3A612#32
  | 40 => 0xBF8D0F42#32
  | 41 => 0x3E64844F#32
  | 42 => 0x3F9DDB2C#32
  | 43 => 0xBF02F4D1#32
  | 44 => 0x3EA15989#32
  | 45 => 0x3F48D275#32
  | 46 => 0x401CB00F#32
  | 47 => 0x3C4C2641#32
  | 48 => 0x402D3DCF#32
  | 49 => 0x400D9DBB#32
  | 50 => 0x3EB221F1#32
  | 51 => 0x3FA4D562#32
  | 52 => 0x40623CDD#32
  | 53 => 0x3F7E1950#32
  | 54 => 0x3FFC01DE#32
  | 55 => 0x3EB00265#32
  | 56 => 0x401C356F#32
  | 57 => 0x3FE2FE88#32
  | 58 => 0xBF1C4A9F#32
  | 59 => 0x400861D6#32
  | 60 => 0x3FA24E79#32
  | 61 => 0xBF7494DF#32
  | 62 => 0xBE5BE1EA#32
  | 63 => 0xBEC56C77#32
  | 64 => 0xBE77B865#32
  | 65 => 0x3F826D53#32
  | 66 => 0x3FFF7549#32
  | 67 => 0x3EB6D5AF#32
  | 68 => 0xBF9FC4D3#32
  | 69 => 0x3FD25C54#32
  | 70 => 0xBF816F78#32
  | 71 => 0xBED724E9#32
  | 72 => 0x40056CB7#32
  | 73 => 0xBECE67EA#32
  | 74 => 0x3FC89459#32
  | 75 => 0xBF867343#32
  | 76 => 0xBE0E7169#32
  | 77 => 0x3F2E8BEC#32
  | 78 => 0x3E1D3471#32
  | 79 => 0xBED8E75D#32
  | 80 => 0x3F5E3CD5#32
  | 81 => 0x4017BE92#32
  | 82 => 0x3F71302F#32
  | 83 => 0x3E8E81FF#32
  | 84 => 0x3E8184D0#32
  | 85 => 0x3F03F154#32
  | 86 => 0x3E1043CF#32
  | 87 => 0x3F7096FD#32
  | 88 => 0xBF189E2B#32
  | 89 => 0x3EEDF1F6#32
  | 90 => 0x3F6F2510#32
  | 91 => 0xBF5CC1AB#32
  | 92 => 0x3EBA51D9#32
  | 93 => 0x3FB280F8#32
  | 94 => 0x3EAEAEF7#32
  | 95 => 0x3DC7E0B9#32
  | 96 => 0x3E11A74B#32
  | 97 => 0x3D213FBB#32
  | 98 => 0x3F49A9B2#32
  | 99 => 0xBD49C875#32
  | 100 => 0xBE452A56#32
  | 101 => 0x4073B023#32
  | 102 => 0x3FBE718E#32
  | 103 => 0x3FB00AAC#32
  | 104 => 0x3FA25F73#32
  | 105 => 0x3F6AF4FE#32
  | 106 => 0x3FA2776B#32
  | 107 => 0x3ED5BD6B#32
  | 108 => 0x3FA861FD#32
  | 109 => 0xBF885C75#32
  | 110 => 0x3DF7E9A0#32
  | 111 => 0x3F24BF2F#32
  | 112 => 0x3D33206D#32
  | 113 => 0x3C17922E#32
  | 114 => 0xBEEF5609#32
  | 115 => 0x3F0827E9#32
  | 116 => 0x3F6251A6#32
  | 117 => 0x3F0341D7#32
  | 118 => 0x40079A98#32
  | 119 => 0xBF1994BE#32
  | 120 => 0x3F6EC55B#32
  | 121 => 0xBEBD5F78#32
  | 122 => 0x3EC1F801#32
  | 123 => 0x3F7307DE#32
  | 124 => 0xBF5FD990#32
  | 125 => 0x4057D80E#32
  | 126 => 0x3FE8E31B#32
  | 127 => 0x3F66BF18#32
  | _ => 0#32

noncomputable abbrev lit0t0_350 (i : Nat) : BitVec 32 := match i % 128 with
  | 0 => 0x3F8672B1#32
  | 1 => 0x3E8F48AB#32
  | 2 => 0x3F9C6EF4#32
  | 3 => 0x3EF521E8#32
  | 4 => 0xBD74A247#32
  | 5 => 0x401E7B68#32
  | 6 => 0x3E2A716E#32
  | 7 => 0x40B554D5#32
  | 8 => 0x3FF4C859#32
  | 9 => 0x3FBBF3A8#32
  | 10 => 0x3FB24C0C#32
  | 11 => 0x3FD7E24A#32
  | 12 => 0x3ED48D3C#32
  | 13 => 0xBD347FC1#32
  | 14 => 0x3F0F2DAE#32
  | 15 => 0x3F75FCED#32
  | 16 => 0xBF04E28A#32
  | 17 => 0xBFD0C2D5#32
  | 18 => 0x3F83DD8B#32
  | 19 => 0xBFA6F544#32
  | 20 => 0xBF3CDF52#32
  | 21 => 0x3FBEB129#32
  | 22 => 0x3F6D0D58#32
  | 23 => 0xBF61DDD0#32
  | 24 => 0x403BB948#32
  | 25 => 0x3F6C9B40#32
  | 26 => 0xBE60E956#32
  | 27 => 0xBF89CFEA#32
  | 28 => 0xBF4407CC#32
  | 29 => 0x3F163356#32
  | 30 => 0x3DC43874#32
  | 31 => 0x3E72E187#32
  | 32 => 0xBCB694FB#32
  | 33 => 0xBE04F4D8#32
  | 34 => 0x3FB706D9#32
  | 35 => 0x3DC15075#32
  | 36 => 0x3F62646E#32
  | 37 => 0xBE5D5978#32
  | 38 => 0x3EEF0CE3#32
  | 39 => 0xBF66DA88#32
  | 40 => 0xBFB3C4D3#32
  | 41 => 0xBE273BC7#32
  | 42 => 0x3FDB3CB9#32
  | 43 => 0x3EEDBD93#32
  | 44 => 0x4067A188#32
  | 45 => 0xBEE80354#32
  | 46 => 0x3EB89E5C#32
  | 47 => 0x3F458AE2#32
  | 48 => 0x3DF6DDD7#32
  | 49 => 0xBE7C5F9D#32
  | 50 => 0x3E1BC3AF#32
  | 51 => 0x3DBDEBD8#32
  | 52 => 0x3FD227BA#32
  | 53 => 0xBF83D229#32
  | 54 => 0x3EBF3070#32
  | 55 => 0x400F2D4D#32
  | 56 => 0xBE308231#32
  | 57 => 0x3F2B0F57#32
  | 58 => 0x3E844236#32
  | 59 => 0x3F305404#32
  | 60 => 0xBF62D0B7#32
  | 61 => 0x3FA36865#32
  | 62 => 0x3F965645#32
  | 63 => 0xBF006436#32
  | 64 => 0x3F195A23#32
  | 65 => 0x403EC21F#32
  | 66 => 0x3FF0104E#32
  | 67 => 0xBEFD87A2#32
  | 68 => 0x3ECDC80B#32
  | 69 => 0xBE6E8DD0#32
  | 70 => 0xBF1CC17D#32
  | 71 => 0x4012EF26#32
  | 72 => 0x3FBDC8D9#32
  | 73 => 0x3F7D9C40#32
  | 74 => 0x3FD86963#32
  | 75 => 0xBF5AA8D2#32
  | 76 => 0x3F563785#32
  | 77 => 0x3FC89996#32
  | 78 => 0x3F98D739#32
  | 79 => 0x3FD971D6#32
  | 80 => 0xBF3BA7F8#32
  | 81 => 0x3E298EA9#32
  | 82 => 0x40256229#32
  | 83 => 0x3E7EEB8A#32
  | 84 => 0xBEAE3021#32
  | 85 => 0x40679318#32
  | 86 => 0x406C3CBB#32
  | 87 => 0xBF494F9C#32
  | 88 => 0xBEF8A52C#32
  | 89 => 0x3E24577D#32
  | 90 => 0x3F9CFE37#32
  | 91 => 0x4055E5E8#32
  | 92 => 0x4008123D#32
  | 93 => 0x3FF237C2#32
  | 94 => 0xBE95B9C9#32
  | 95 => 0x3F7BB3B8#32
  | 96 => 0xBF58752F#32
  | 97 => 0x3EF84076#32
  | 98 => 0xBF525D0D#32
  | 99 => 0x3F4CDCEE#32
  | 100 => 0xBFC20F5C#32
  | 101 => 0x3EC88C36#32
  | 102 => 0x3F1F9278#32
  | 103 => 0x403E408C#32
  | 104 => 0x3FA61F5C#32
  | 105 => 0xBEC4D435#32
  | 106 => 0x3F2F6F98#32
  | 107 => 0xBF6C608E#32
  | 108 => 0x3F697DB9#32
  | 109 => 0x3EDD74AB#32
  | 110 => 0xBF8BB91B#32
  | 111 => 0x3C48C092#32
  | 112 => 0x3F62F1E6#32
  | 113 => 0x401FD094#32
  | 114 => 0x3F91D45A#32
  | 115 => 0x401FC8E0#32
  | 116 => 0x405878FA#32
  | 117 => 0x3FE23100#32
  | 118 => 0x3FF884D6#32
  | 119 => 0xBE3E7376#32
  | 120 => 0x3FAC4B03#32
  | 121 => 0x3F181E0C#32
  | 122 => 0x3D72BCA3#32
  | 123 => 0x40200228#32
  | 124 => 0x3FCD349A#32
  | 125 => 0x3F8CE7A2#32
  | 126 => 0xBE149DC2#32
  | 127 => 0x3DDC0BEF#32
  | _ => 0#32

noncomputable abbrev lit0t0_351 (i : Nat) : BitVec 32 := match i % 128 with
  | 0 => 0xBEEF55F0#32
  | 1 => 0xBEFE5F88#32
  | 2 => 0x4006078A#32
  | 3 => 0x3F4179DF#32
  | 4 => 0x4048755E#32
  | 5 => 0x3FD889EE#32
  | 6 => 0x3DE66EEC#32
  | 7 => 0x3D61E07B#32
  | 8 => 0x3EC4FFAB#32
  | 9 => 0x40155FF2#32
  | 10 => 0x3F7B5BD0#32
  | 11 => 0x4007A19E#32
  | 12 => 0x3E1C7384#32
  | 13 => 0x3EA271DA#32
  | 14 => 0x3EC14B56#32
  | 15 => 0x4020940F#32
  | 16 => 0x3E89DFE1#32
  | 17 => 0x3E6CE3A3#32
  | 18 => 0xBFAB0A15#32
  | 19 => 0x4098DDF9#32
  | 20 => 0x3CC5CBEA#32
  | 21 => 0x3F6A34FA#32
  | 22 => 0x3F4E4B22#32
  | 23 => 0x3EDCD2CD#32
  | 24 => 0xBF9A7564#32
  | 25 => 0xBE9DB87E#32
  | 26 => 0x3FDF696C#32
  | 27 => 0xBD9084B6#32
  | 28 => 0xBF032067#32
  | 29 => 0x3F9B7593#32
  | 30 => 0x3FEDC115#32
  | 31 => 0x3ED42821#32
  | 32 => 0xBEEA5D87#32
  | 33 => 0xBF680CA0#32
  | 34 => 0xBE8A36FF#32
  | 35 => 0x3FBB32D1#32
  | 36 => 0xBE361CA3#32
  | 37 => 0xBF8FB8B9#32
  | 38 => 0x3F89F7F3#32
  | 39 => 0x40109194#32
  | 40 => 0xBED96008#32
  | 41 => 0xBF19F1F3#32
  | 42 => 0x3C86E504#32
  | 43 => 0x3F005E36#32
  | 44 => 0x3EE8718F#32
  | 45 => 0x3F3FBB87#32
  | 46 => 0x3FC83483#32
  | 47 => 0x4076F6FC#32
  | 48 => 0xBF5DA50E#32
  | 49 => 0x3D471302#32
  | 50 => 0x4029ED8A#32
  | 51 => 0x3F945679#32
  | 52 => 0xBD9882C3#32
  | 53 => 0x3F98E931#32
  | 54 => 0x3D1D59A8#32
  | 55 => 0x3FBFAF42#32
  | 56 => 0x401789F3#32
  | 57 => 0x3F421E4B#32
  | 58 => 0xBD550600#32
  | 59 => 0x3F8C5918#32
  | 60 => 0x3FDD9442#32
  | 61 => 0x3FB9A39E#32
  | 62 => 0x3F8EC9D1#32
  | 63 => 0xBE7DB66C#32
  | 64 => 0x4015CCAD#32
  | 65 => 0x3FE0CC6F#32
  | 66 => 0x400E148B#32
  | 67 => 0xBDC3D552#32
  | 68 => 0x3D8294DE#32
  | 69 => 0xBF08193F#32
  | 70 => 0x3F5502C9#32
  | 71 => 0xBFDAC171#32
  | 72 => 0xBE4663DA#32
  | 73 => 0x3F33ED5E#32
  | 74 => 0x3FDF6D0B#32
  | 75 => 0x3E8B0DF5#32
  | 76 => 0xBFA05BF1#32
  | 77 => 0x3FF31127#32
  | 78 => 0x3F3DFB10#32
  | 79 => 0xBFB71B99#32
  | 80 => 0x405D2CA9#32
  | 81 => 0xBFA546C1#32
  | 82 => 0x3F895943#32
  | 83 => 0x3FEBC55B#32
  | 84 => 0x3FD9392F#32
  | 85 => 0xBC06D88D#32
  | 86 => 0xBE42EFBD#32
  | 87 => 0x3F4F4663#32
  | 88 => 0x3F96591C#32
  | 89 => 0x3DB6CD15#32
  | 90 => 0x3F19971E#32
  | 91 => 0x3EF7537C#32
  | 92 => 0xBE7B5DF6#32
  | 93 => 0x3F339560#32
  | 94 => 0x3EB3CCDD#32
  | 95 => 0x3F3EB9B0#32
  | 96 => 0xBEB1BD8B#32
  | 97 => 0x3FFBAD22#32
  | 98 => 0x4005818E#32
  | 99 => 0x3F0E9546#32
  | 100 => 0x3FB8AA01#32
  | 101 => 0x3ED55AEE#32
  | 102 => 0x406D0C6C#32
  | 103 => 0xBF180ED5#32
  | 104 => 0x3E366D19#32
  | 105 => 0x3FF91CE5#32
  | 106 => 0xBF337029#32
  | 107 => 0x3FF74007#32
  | 108 => 0xBE0890BD#32
  | 109 => 0x40829576#32
  | 110 => 0x3FFDAB97#32
  | 111 => 0x3ECE28B8#32
  | 112 => 0xBEC5D596#32
  | 113 => 0xBF32FBC9#32
  | 114 => 0x3F57557C#32
  | 115 => 0xBF8A8741#32
  | 116 => 0xBF09859F#32
  | 117 => 0xBEFD47F8#32
  | 118 => 0x3E1425CC#32
  | 119 => 0x4085FE60#32
  | 120 => 0x3FCC2E2F#32
  | 121 => 0xBE874B5B#32
  | 122 => 0x3FD29412#32
  | 123 => 0xBEB8C848#32
  | 124 => 0x4046762A#32
  | 125 => 0xBF0F125A#32
  | 126 => 0x406AF4EF#32
  | 127 => 0xBED63852#32
  | _ => 0#32

noncomputable abbrev lit0t0_352 (i : Nat) : BitVec 32 := match i % 128 with
  | 0 => 0x3F465E08#32
  | 1 => 0xBF5BD050#32
  | 2 => 0x3F86590C#32
  | 3 => 0xBEE8A0AC#32
  | 4 => 0x3FD5EDBF#32
  | 5 => 0xBEE8F9A4#32
  | 6 => 0x4020F671#32
  | 7 => 0x3FBFC339#32
  | 8 => 0xBFA70021#32
  | 9 => 0xBE8285E5#32
  | 10 => 0x3E87B87F#32
  | 11 => 0xBEA4F98B#32
  | 12 => 0xBFB292B4#32
  | 13 => 0xBEC5F1E4#32
  | 14 => 0x3DBF33EE#32
  | 15 => 0xBE49C03C#32
  | 16 => 0x3F9B04A7#32
  | 17 => 0x3FC5E9E1#32
  | 18 => 0xBEE66B42#32
  | 19 => 0xBEECE674#32
  | 20 => 0xBF4AB3D9#32
  | 21 => 0x3FC09251#32
  | 22 => 0x3F7276F4#32
  | 23 => 0x3F9C8AE0#32
  | 24 => 0xBF041A33#32
  | 25 => 0x3E851CAA#32
  | 26 => 0xBE963062#32
  | 27 => 0x401BCD70#32
  | 28 => 0x3D2EE99C#32
  | 29 => 0xBF93024A#32
  | 30 => 0x3F26EA5E#32
  | 31 => 0x4040F5E1#32
  | 32 => 0x3F3E8602#32
  | 33 => 0x402622CF#32
  | 34 => 0xBE94ED26#32
  | 35 => 0x3F9090CA#32
  | 36 => 0x3DB2FB89#32
  | 37 => 0xBF86BDF0#32
  | 38 => 0x3FD46A56#32
  | 39 => 0x3F0D5744#32
  | 40 => 0x3F12D470#32
  | 41 => 0xBF906A7F#32
  | 42 => 0x3DCD8603#32
  | 43 => 0xBFAF6FFA#32
  | 44 => 0x3F1715D3#32
  | 45 => 0xBEAC6107#32
  | 46 => 0x3F53F8AE#32
  | 47 => 0x3F83334B#32
  | 48 => 0x3F867D42#32
  | 49 => 0xBF230703#32
  | 50 => 0x40140FEA#32
  | 51 => 0xBFA3F730#32
  | 52 => 0x3F9AAD4C#32
  | 53 => 0x3FDB4032#32
  | 54 => 0x3D92F976#32
  | 55 => 0x3FACAE5C#32
  | 56 => 0xBE8DA9E4#32
  | 57 => 0xBF18BD8E#32
  | 58 => 0x3F76BDEC#32
  | 59 => 0x4084B162#32
  | 60 => 0xBF620130#32
  | 61 => 0x3D503830#32
  | 62 => 0x3F2E14A8#32
  | 63 => 0xBF1760CD#32
  | 64 => 0x3F3D727E#32
  | 65 => 0x408581F6#32
  | 66 => 0xBD074745#32
  | 67 => 0x3DA2E145#32
  | 68 => 0x406A599A#32
  | 69 => 0xBE8893B3#32
  | 70 => 0x3FEB3672#32
  | 71 => 0x3FA80463#32
  | 72 => 0xBFACCDCC#32
  | 73 => 0xBF2E2206#32
  | 74 => 0xBF080F7B#32
  | 75 => 0x3EC71335#32
  | 76 => 0x3F4744A2#32
  | 77 => 0x40292BFA#32
  | 78 => 0xBF1C4CB5#32
  | 79 => 0x4068212F#32
  | 80 => 0x400F8CDA#32
  | 81 => 0x3F29687A#32
  | 82 => 0x4056A4AA#32
  | 83 => 0x3E2904E3#32
  | 84 => 0xBE8D3FDA#32
  | 85 => 0xBFAC96BE#32
  | 86 => 0x3F1BF913#32
  | 87 => 0x3FAD3A34#32
  | 88 => 0x3E8BD06E#32
  | 89 => 0x3BC5DEA2#32
  | 90 => 0xBE13B713#32
  | 91 => 0x3F5B85DE#32
  | 92 => 0x3F21DA9B#32
  | 93 => 0xBF79C5EE#32
  | 94 => 0x3F1CC505#32
  | 95 => 0x3DE53DFD#32
  | 96 => 0xBF7D5192#32
  | 97 => 0x3FC85DD6#32
  | 98 => 0x3FBB569C#32
  | 99 => 0x3F17DEE9#32
  | 100 => 0x3F8EDCA9#32
  | 101 => 0x3F528501#32
  | 102 => 0x3E1D8E61#32
  | 103 => 0xBEE0FFE1#32
  | 104 => 0x3F2632B7#32
  | 105 => 0xBF139D19#32
  | 106 => 0xBE152FDB#32
  | 107 => 0x403349B0#32
  | 108 => 0x3F72850E#32
  | 109 => 0x3F7053EA#32
  | 110 => 0x3FA92D7C#32
  | 111 => 0x3F3AEA87#32
  | 112 => 0x3E981BD5#32
  | 113 => 0x3D0FDF9A#32
  | 114 => 0x3F601619#32
  | 115 => 0xBFA8840F#32
  | 116 => 0xBEC9A29F#32
  | 117 => 0x3FC7607C#32
  | 118 => 0xBF1FF5DD#32
  | 119 => 0x3FE77F4C#32
  | 120 => 0x404F21A1#32
  | 121 => 0xBE341AD4#32
  | 122 => 0xBF529438#32
  | 123 => 0x3FCB4957#32
  | 124 => 0xBF20607A#32
  | 125 => 0x3FB2CA65#32
  | 126 => 0x40A1F367#32
  | 127 => 0x3DFE3619#32
  | _ => 0#32

noncomputable abbrev lit0t0_353 (i : Nat) : BitVec 32 := match i % 128 with
  | 0 => 0x3FBB5B1E#32
  | 1 => 0x3DFC1D3B#32
  | 2 => 0x3E374126#32
  | 3 => 0x404B1D94#32
  | 4 => 0x3EE63F2E#32
  | 5 => 0x3F198CD8#32
  | 6 => 0x3F5244A6#32
  | 7 => 0x3EEE904C#32
  | 8 => 0x3D50B415#32
  | 9 => 0xBF64368E#32
  | 10 => 0x40224F0C#32
  | 11 => 0xBF8D3D2B#32
  | 12 => 0xBD845477#32
  | 13 => 0x3F3D55CF#32
  | 14 => 0x4028BC1D#32
  | 15 => 0x3EEE889A#32
  | 16 => 0x4089B43E#32
  | 17 => 0xBE148321#32
  | 18 => 0x40661844#32
  | 19 => 0xBF88CCC8#32
  | 20 => 0x3E2FE541#32
  | 21 => 0x3F4CE6A2#32
  | 22 => 0x3EBA37E5#32
  | 23 => 0x3FCC7E2A#32
  | 24 => 0xBEE2AE61#32
  | 25 => 0x3F8D26AA#32
  | 26 => 0x3E0FE1E4#32
  | 27 => 0x4033DD69#32
  | 28 => 0xBE6CA931#32
  | 29 => 0xBEC14C85#32
  | 30 => 0x3ECA1D30#32
  | 31 => 0x3DCAB182#32
  | 32 => 0xBD8D3C05#32
  | 33 => 0x3F86C825#32
  | 34 => 0x3FFE973A#32
  | 35 => 0x3FC1199B#32
  | 36 => 0xBF7EB7B2#32
  | 37 => 0x40A52D14#32
  | 38 => 0xBEDAB165#32
  | 39 => 0x40179208#32
  | 40 => 0x3F29C658#32
  | 41 => 0x402008E7#32
  | 42 => 0x400A9507#32
  | 43 => 0x3F218B90#32
  | 44 => 0x3E2D8C71#32
  | 45 => 0xBC896EB9#32
  | 46 => 0xBF5C716E#32
  | 47 => 0x3FDC4DF6#32
  | 48 => 0xBF9D21CF#32
  | 49 => 0x400C63A5#32
  | 50 => 0x400C964A#32
  | 51 => 0x3F203569#32
  | 52 => 0xBF15C773#32
  | 53 => 0x3F729066#32
  | 54 => 0x3F8C547E#32
  | 55 => 0x3FF3A431#32
  | 56 => 0x3FCB23DA#32
  | 57 => 0x3F28B153#32
  | 58 => 0x3FEC9FCA#32
  | 59 => 0x40F139E8#32
  | 60 => 0x3FAB97E0#32
  | 61 => 0x403E2924#32
  | 62 => 0xBF8FE18C#32
  | 63 => 0xBF488D0A#32
  | 64 => 0xBEA61746#32
  | 65 => 0x40827CDE#32
  | 66 => 0x3F368EC7#32
  | 67 => 0x3E8734D6#32
  | 68 => 0xBAA51162#32
  | 69 => 0xBF1666FB#32
  | 70 => 0x3EB17B60#32
  | 71 => 0x3FC2661C#32
  | 72 => 0x3D9CFD93#32
  | 73 => 0xBED634A9#32
  | 74 => 0xBFD3A174#32
  | 75 => 0xBF95AAFD#32
  | 76 => 0x3F400B32#32
  | 77 => 0xBF8F2BB1#32
  | 78 => 0xBF8D3E17#32
  | 79 => 0xBECD3A9E#32
  | 80 => 0x3FB50BB4#32
  | 81 => 0x401FED74#32
  | 82 => 0x3F7527D6#32
  | 83 => 0xBF75343A#32
  | 84 => 0x3FE11021#32
  | 85 => 0x3EE87CF0#32
  | 86 => 0xBF0D843A#32
  | 87 => 0x3F8C69E4#32
  | 88 => 0x401AE76A#32
  | 89 => 0x3F8B1768#32
  | 90 => 0xBFAE161D#32
  | 91 => 0x3FDF469C#32
  | 92 => 0xBF72AB0E#32
  | 93 => 0x4023B521#32
  | 94 => 0xBF602A9C#32
  | 95 => 0xBE900AD1#32
  | 96 => 0x3F383F3F#32
  | 97 => 0xBEF45210#32
  | 98 => 0xBF59CDC0#32
  | 99 => 0xBE8CED18#32
  | 100 => 0x3DDE5933#32
  | 101 => 0x4000CD62#32
  | 102 => 0x3F689890#32
  | 103 => 0xBF0DEC77#32
  | 104 => 0x3DAF8356#32
  | 105 => 0xBD5FB022#32
  | 106 => 0x3EE5762B#32
  | 107 => 0x3F7814D9#32
  | 108 => 0x3F216ACC#32
  | 109 => 0x4026193F#32
  | 110 => 0xBF9EA011#32
  | 111 => 0x3E98973B#32
  | 112 => 0xBCF3C24F#32
  | 113 => 0x3ED03BAD#32
  | 114 => 0x407FEB14#32
  | 115 => 0x3FA274F3#32
  | 116 => 0xBF82CA18#32
  | 117 => 0x3F9E54D1#32
  | 118 => 0x3E8D6B88#32
  | 119 => 0xBEB617E2#32
  | 120 => 0x3F2520A2#32
  | 121 => 0x40268F86#32
  | 122 => 0xBF5F05F7#32
  | 123 => 0x3F3550C3#32
  | 124 => 0xBF95AACE#32
  | 125 => 0xBE57290D#32
  | 126 => 0x3F9D7D71#32
  | 127 => 0xBD05831A#32
  | _ => 0#32

noncomputable abbrev lit0t0_354 (i : Nat) : BitVec 32 := match i % 128 with
  | 0 => 0xBE384BC1#32
  | 1 => 0x3EF7F130#32
  | 2 => 0x4016383E#32
  | 3 => 0x3FCF53F9#32
  | 4 => 0x3DDA4E8B#32
  | 5 => 0x401B32AB#32
  | 6 => 0x4030B890#32
  | 7 => 0x3FFDBA75#32
  | 8 => 0xBD99A02C#32
  | 9 => 0x3FBB8DDB#32
  | 10 => 0xBE47CB0C#32
  | 11 => 0xBED8C043#32
  | 12 => 0xBE1B8FCC#32
  | 13 => 0xBFB8BB25#32
  | 14 => 0x4022E4E1#32
  | 15 => 0x3E47112E#32
  | 16 => 0x3E898AF6#32
  | 17 => 0xC00CB4F6#32
  | 18 => 0xC004AF17#32
  | 19 => 0x3D0DB667#32
  | 20 => 0xBF6A0DBE#32
  | 21 => 0x400531B7#32
  | 22 => 0xBF240640#32
  | 23 => 0xBE8FA9A0#32
  | 24 => 0xBE1ADB40#32
  | 25 => 0xBF06E69A#32
  | 26 => 0x3F5ECFD4#32
  | 27 => 0xBD028F1E#32
  | 28 => 0x3F3A9204#32
  | 29 => 0x3F2FB742#32
  | 30 => 0xBEA67E73#32
  | 31 => 0x3F3C51DD#32
  | 32 => 0x3F88E0EE#32
  | 33 => 0x3F6F9F56#32
  | 34 => 0x3FC6D142#32
  | 35 => 0x3EA8FC3C#32
  | 36 => 0x40011E84#32
  | 37 => 0x3DC3D2BB#32
  | 38 => 0xBDD3F30D#32
  | 39 => 0x40467CEE#32
  | 40 => 0xBE7AB39A#32
  | 41 => 0x40360AB3#32
  | 42 => 0x3F8F67F2#32
  | 43 => 0xBE452563#32
  | 44 => 0x402095C1#32
  | 45 => 0x3F3D7F21#32
  | 46 => 0x40472BA8#32
  | 47 => 0xBF852C22#32
  | 48 => 0x4046D571#32
  | 49 => 0x3D31917E#32
  | 50 => 0x3FAC5F7A#32
  | 51 => 0xBE838128#32
  | 52 => 0xBF8C6058#32
  | 53 => 0x4056395E#32
  | 54 => 0x403CA6F0#32
  | 55 => 0xC002C18F#32
  | 56 => 0x3F89A230#32
  | 57 => 0x3E3A85B8#32
  | 58 => 0xBF3AF867#32
  | 59 => 0xBF5C79A0#32
  | 60 => 0x3F876CBC#32
  | 61 => 0x3F99E181#32
  | 62 => 0x4019A09A#32
  | 63 => 0x3EEC2357#32
  | 64 => 0xBF3C05EA#32
  | 65 => 0x3FA8CE6C#32
  | 66 => 0x3AC36544#32
  | 67 => 0x3E106361#32
  | 68 => 0x3F201632#32
  | 69 => 0x3F4100BB#32
  | 70 => 0x3EAE049E#32
  | 71 => 0xBFBFE365#32
  | 72 => 0x3E197BEF#32
  | 73 => 0x3FCBE856#32
  | 74 => 0x3FACC2D5#32
  | 75 => 0x3FCE3D6D#32
  | 76 => 0x3C9750D0#32
  | 77 => 0x3E45BA65#32
  | 78 => 0x3EF70FAA#32
  | 79 => 0x3FC15AFF#32
  | 80 => 0x3F652100#32
  | 81 => 0xBF93C0FE#32
  | 82 => 0xBEB20781#32
  | 83 => 0x3FA7A40A#32
  | 84 => 0x3FB0F473#32
  | 85 => 0x412BB9E9#32
  | 86 => 0x3E83C26E#32
  | 87 => 0xBCF13665#32
  | 88 => 0xBCF44BA8#32
  | 89 => 0x405CFECD#32
  | 90 => 0x3E929BB4#32
  | 91 => 0xBE9E6D0D#32
  | 92 => 0x3FB84F70#32
  | 93 => 0x3F815394#32
  | 94 => 0x3EDE6E1C#32
  | 95 => 0x3FF43B46#32
  | 96 => 0x3E02F2F8#32
  | 97 => 0x3FAC000D#32
  | 98 => 0x3E9CFFD8#32
  | 99 => 0x3E28D3DA#32
  | 100 => 0x3F572B1C#32
  | 101 => 0x3EB37FBC#32
  | 102 => 0x402D3255#32
  | 103 => 0x3EBB3761#32
  | 104 => 0x3F22B805#32
  | 105 => 0xBFC056EB#32
  | 106 => 0xBF475926#32
  | 107 => 0x404394DB#32
  | 108 => 0x405C95D6#32
  | 109 => 0xBF73C5F0#32
  | 110 => 0x3F459EE2#32
  | 111 => 0x3F098853#32
  | 112 => 0xBFA131E4#32
  | 113 => 0x3F9A2408#32
  | 114 => 0x3F814943#32
  | 115 => 0x3F2426D6#32
  | 116 => 0x400B39C6#32
  | 117 => 0x3FA04953#32
  | 118 => 0x3F526BC9#32
  | 119 => 0x401B233E#32
  | 120 => 0x3F864F0A#32
  | 121 => 0xBF6741CA#32
  | 122 => 0x3DFA95D7#32
  | 123 => 0x3D8E6257#32
  | 124 => 0xBE089A57#32
  | 125 => 0x3ED64F85#32
  | 126 => 0xBF992161#32
  | 127 => 0xBE859B20#32
  | _ => 0#32

noncomputable abbrev lit0t0_355 (i : Nat) : BitVec 32 := match i % 128 with
  | 0 => 0xBF9632B9#32
  | 1 => 0x3D1F03CE#32
  | 2 => 0x3FC4E302#32
  | 3 => 0x3F6B35C8#32
  | 4 => 0x40071FC9#32
  | 5 => 0x3FC00545#32
  | 6 => 0x40BD2E22#32
  | 7 => 0x3E21C0E5#32
  | 8 => 0x3E2A17EB#32
  | 9 => 0x3F100269#32
  | 10 => 0x3F8CBE70#32
  | 11 => 0xBFB4AAD9#32
  | 12 => 0xBFB22331#32
  | 13 => 0xBF28128A#32
  | 14 => 0xBF0D22AA#32
  | 15 => 0xBEC5508D#32
  | 16 => 0x3E158E85#32
  | 17 => 0x3F1D726F#32
  | 18 => 0xBF3FAAAD#32
  | 19 => 0x403D2716#32
  | 20 => 0x3E47533F#32
  | 21 => 0x3E8A60FC#32
  | 22 => 0x3D241451#32
  | 23 => 0xBF07BCDA#32
  | 24 => 0x3E9BEB1A#32
  | 25 => 0x3F7BC2DE#32
  | 26 => 0x3EDB1721#32
  | 27 => 0x3FABB970#32
  | 28 => 0x3F23B18F#32
  | 29 => 0x3FB6B6CE#32
  | 30 => 0x3F7B32D7#32
  | 31 => 0x3EB837A0#32
  | 32 => 0x3FC9724F#32
  | 33 => 0x3FA3556D#32
  | 34 => 0x3DA04C14#32
  | 35 => 0xBECEF06E#32
  | 36 => 0x3F28921F#32
  | 37 => 0x3FCD8BA9#32
  | 38 => 0x3F96FC7D#32
  | 39 => 0x3FA0624C#32
  | 40 => 0xBD4A4F26#32
  | 41 => 0x3FCA7B68#32
  | 42 => 0x3FCB5AB2#32
  | 43 => 0x3F4C6411#32
  | 44 => 0x3FF9E4D8#32
  | 45 => 0x3EACEC90#32
  | 46 => 0x3FBF902B#32
  | 47 => 0xBE2DD571#32
  | 48 => 0xBF4B2EA6#32
  | 49 => 0xBEA4584F#32
  | 50 => 0xBFB4A43B#32
  | 51 => 0xBF8B421A#32
  | 52 => 0xBF62867B#32
  | 53 => 0xBFC7BE34#32
  | 54 => 0xBF85757C#32
  | 55 => 0x3FA2AF0D#32
  | 56 => 0x4012C444#32
  | 57 => 0x3F41B655#32
  | 58 => 0xBE1AE4DF#32
  | 59 => 0x3D8D4399#32
  | 60 => 0xBE83E489#32
  | 61 => 0x3E70D0DD#32
  | 62 => 0x3F32D169#32
  | 63 => 0xBF46C358#32
  | 64 => 0x3E5A0D4E#32
  | 65 => 0x3E1F5B15#32
  | 66 => 0x3FE3BC4A#32
  | 67 => 0x3F8A3F0F#32
  | 68 => 0xBF4615C1#32
  | 69 => 0x3F87C0D0#32
  | 70 => 0x40281D4E#32
  | 71 => 0xBE3FC896#32
  | 72 => 0x406A8F5C#32
  | 73 => 0x4004D172#32
  | 74 => 0x3FF93498#32
  | 75 => 0xBF489702#32
  | 76 => 0xBDBF2312#32
  | 77 => 0x3FA7774E#32
  | 78 => 0x3E801C64#32
  | 79 => 0x40BFA6A6#32
  | 80 => 0x3F019069#32
  | 81 => 0x405EB8EA#32
  | 82 => 0x3F858112#32
  | 83 => 0x3FE328BE#32
  | 84 => 0x3E8085B7#32
  | 85 => 0x3DFEF15C#32
  | 86 => 0x3E38A5FB#32
  | 87 => 0xBF04A246#32
  | 88 => 0x3F446C61#32
  | 89 => 0xBDF051CB#32
  | 90 => 0x3E3850BC#32
  | 91 => 0xBD26D67B#32
  | 92 => 0x3FA3454D#32
  | 93 => 0x3F6CB15C#32
  | 94 => 0x3E6DBEC3#32
  | 95 => 0x3FB2D976#32
  | 96 => 0xBE77F696#32
  | 97 => 0xBF2980C6#32
  | 98 => 0xBF1B55FC#32
  | 99 => 0x3FDDCA7C#32
  | 100 => 0x3F9B351D#32
  | 101 => 0xBED72F34#32
  | 102 => 0x3DAD6710#32
  | 103 => 0x3F533F1B#32
  | 104 => 0xBEDC621F#32
  | 105 => 0xBE941606#32
  | 106 => 0x40312CD7#32
  | 107 => 0x3EA875B0#32
  | 108 => 0xBF18CCD0#32
  | 109 => 0x3FEA0036#32
  | 110 => 0x3FFA46D1#32
  | 111 => 0x3F6ABAA7#32
  | 112 => 0xBF3966D3#32
  | 113 => 0x3FD8865C#32
  | 114 => 0x3F339FC1#32
  | 115 => 0x3FB1CD1A#32
  | 116 => 0x3E91ABDC#32
  | 117 => 0xBDD05DE9#32
  | 118 => 0x40625729#32
  | 119 => 0xBDDE368E#32
  | 120 => 0x404F895D#32
  | 121 => 0x3E96BAFE#32
  | 122 => 0x3DC21E40#32
  | 123 => 0x3F1A9100#32
  | 124 => 0x3EE919F4#32
  | 125 => 0xBE5B0C69#32
  | 126 => 0xBF3203BF#32
  | 127 => 0x3ECC35DD#32
  | _ => 0#32

noncomputable abbrev lit0t0_356 (i : Nat) : BitVec 32 := match i % 128 with
  | 0 => 0x3F63B832#32
  | 1 => 0xBF4BE9C6#32
  | 2 => 0xBE4A8451#32
  | 3 => 0xBF41ACFB#32
  | 4 => 0x3EBD0DED#32
  | 5 => 0x3EA15FD7#32
  | 6 => 0x3EE875CA#32
  | 7 => 0x40863E57#32
  | 8 => 0xBF79B3F5#32
  | 9 => 0xBEEFF931#32
  | 10 => 0x401CAB08#32
  | 11 => 0x3F25F0A5#32
  | 12 => 0x3E083CCE#32
  | 13 => 0xBF124B54#32
  | 14 => 0x3E95A380#32
  | 15 => 0xBEA2AD26#32
  | 16 => 0x3F931AE1#32
  | 17 => 0x3F3B32C3#32
  | 18 => 0xBE822230#32
  | 19 => 0xBF367EA9#32
  | 20 => 0xBE982E6A#32
  | 21 => 0xBC20FCDC#32
  | 22 => 0xBE3DF4F6#32
  | 23 => 0x3CF3D345#32
  | 24 => 0x3EF61325#32
  | 25 => 0xBE9F39BD#32
  | 26 => 0x3FE9FA04#32
  | 27 => 0xBC0DFE07#32
  | 28 => 0xBF4E317C#32
  | 29 => 0x3FB93DE4#32
  | 30 => 0x4054F750#32
  | 31 => 0x3FBC75FD#32
  | 32 => 0x4059F5D8#32
  | 33 => 0xBF225327#32
  | 34 => 0x3E89F381#32
  | 35 => 0xBE6045E4#32
  | 36 => 0x3FA52EE0#32
  | 37 => 0x3DDD6A04#32
  | 38 => 0x4091A71A#32
  | 39 => 0xBEA65EF4#32
  | 40 => 0x400513AF#32
  | 41 => 0x404F62C5#32
  | 42 => 0xBF38471E#32
  | 43 => 0x3FEF8B17#32
  | 44 => 0x401711C3#32
  | 45 => 0xBF245A3A#32
  | 46 => 0x3E76FCF0#32
  | 47 => 0xBECECBD1#32
  | 48 => 0xBFEF97EB#32
  | 49 => 0x3FEB6C59#32
  | 50 => 0xBF1AB528#32
  | 51 => 0xBF7DEF14#32
  | 52 => 0x3D8C6BD1#32
  | 53 => 0x3FCB6F4D#32
  | 54 => 0x3F480E22#32
  | 55 => 0x40057E5E#32
  | 56 => 0xBEC02792#32
  | 57 => 0x3FAF8378#32
  | 58 => 0x3EA5D54B#32
  | 59 => 0x4072140E#32
  | 60 => 0x401A769C#32
  | 61 => 0xBEE9E653#32
  | 62 => 0x3F8C7738#32
  | 63 => 0x40A2DE02#32
  | 64 => 0xBDE65FE5#32
  | 65 => 0x3EE52730#32
  | 66 => 0x3F9753AA#32
  | 67 => 0x3F6BF85C#32
  | 68 => 0x3CD4E1C3#32
  | 69 => 0x3F79FCC2#32
  | 70 => 0x3E90776B#32
  | 71 => 0x3F2A3CA8#32
  | 72 => 0x3F613066#32
  | 73 => 0xBF2DFDB3#32
  | 74 => 0x3FDC26D4#32
  | 75 => 0x3D402300#32
  | 76 => 0xBF69FDB9#32
  | 77 => 0x3F712329#32
  | 78 => 0x3F3E806C#32
  | 79 => 0x3F01E97F#32
  | 80 => 0x3EE40A3C#32
  | 81 => 0xBEFFE23A#32
  | 82 => 0x3E0BF36C#32
  | 83 => 0x3FC06A26#32
  | 84 => 0x3D948BC7#32
  | 85 => 0xBF857DBC#32
  | 86 => 0xBFB94DCF#32
  | 87 => 0x4044AAEE#32
  | 88 => 0xBE6103AD#32
  | 89 => 0xBFC55FE6#32
  | 90 => 0xBDD24202#32
  | 91 => 0xBDBB55BA#32
  | 92 => 0x404A8EB6#32
  | 93 => 0xBFA5FA74#32
  | 94 => 0x3EB0EB0A#32
  | 95 => 0x404CCC97#32
  | 96 => 0x4079B4BE#32
  | 97 => 0xBF47769E#32
  | 98 => 0x3DC7BBDB#32
  | 99 => 0x4046929B#32
  | 100 => 0xBF26A4D7#32
  | 101 => 0x3F48CD15#32
  | 102 => 0xBE15D5F0#32
  | 103 => 0xBE79C9A6#32
  | 104 => 0x401403CC#32
  | 105 => 0xBF6C2560#32
  | 106 => 0xBF958E6C#32
  | 107 => 0x40238279#32
  | 108 => 0xBD00D973#32
  | 109 => 0x3FA66FCC#32
  | 110 => 0x3FCA612A#32
  | 111 => 0xBF4F9F81#32
  | 112 => 0xBD8700C1#32
  | 113 => 0xBE423A0B#32
  | 114 => 0x4023AE83#32
  | 115 => 0xBF8A64BA#32
  | 116 => 0xBEDFB1C5#32
  | 117 => 0x3EB23BDB#32
  | 118 => 0x3F91DBBA#32
  | 119 => 0x3F865EB3#32
  | 120 => 0xBE92E703#32
  | 121 => 0x3F00B324#32
  | 122 => 0xBF17B2C4#32
  | 123 => 0x3CDA3F0D#32
  | 124 => 0x3F0A75AA#32
  | 125 => 0x400D44D1#32
  | 126 => 0x403DA9BE#32
  | 127 => 0xBF14ACCA#32
  | _ => 0#32

noncomputable abbrev lit0t0_357 (i : Nat) : BitVec 32 := match i % 128 with
  | 0 => 0xBEDDAA52#32
  | 1 => 0xBF13AF08#32
  | 2 => 0x3D88FC05#32
  | 3 => 0xBED5AEA0#32
  | 4 => 0xBF240493#32
  | 5 => 0x3F84FBDD#32
  | 6 => 0xBF5D4E26#32
  | 7 => 0xBD79BEE0#32
  | 8 => 0xBE4E76C9#32
  | 9 => 0x3FE97BAE#32
  | 10 => 0xBF8345A4#32
  | 11 => 0xBF069820#32
  | 12 => 0x3EB5C654#32
  | 13 => 0x3FBEA1AF#32
  | 14 => 0xBF010DD7#32
  | 15 => 0x3F086E22#32
  | 16 => 0x3F485D55#32
  | 17 => 0xBF237548#32
  | 18 => 0x3FDA635A#32
  | 19 => 0x3FE19F08#32
  | 20 => 0x3FED6B14#32
  | 21 => 0x400D5995#32
  | 22 => 0xBF555728#32
  | 23 => 0x3F7A5820#32
  | 24 => 0x3FAEC21A#32
  | 25 => 0x3E6A40E0#32
  | 26 => 0x3E97AD8B#32
  | 27 => 0x3EB1D8E9#32
  | 28 => 0xBE9648D7#32
  | 29 => 0xBE3F56F5#32
  | 30 => 0x3F98B1E3#32
  | 31 => 0xBF75FEC9#32
  | 32 => 0x3D001666#32
  | 33 => 0x3F8BA518#32
  | 34 => 0x3F8298CA#32
  | 35 => 0x3FC79D60#32
  | 36 => 0x3D80F1F5#32
  | 37 => 0x3F6C0699#32
  | 38 => 0x3F3480EE#32
  | 39 => 0x3F9BDE3C#32
  | 40 => 0x3F81F3D7#32
  | 41 => 0x3F01C528#32
  | 42 => 0xBFB4930A#32
  | 43 => 0xBECCE08E#32
  | 44 => 0x400183A4#32
  | 45 => 0xBEA07ABE#32
  | 46 => 0x3E742D51#32
  | 47 => 0x402223AF#32
  | 48 => 0x40624F38#32
  | 49 => 0xBF206FAA#32
  | 50 => 0x3F829144#32
  | 51 => 0x3FDF8361#32
  | 52 => 0xBE540326#32
  | 53 => 0x3F00D3EB#32
  | 54 => 0x3E8ACECB#32
  | 55 => 0xBEB41E6D#32
  | 56 => 0x3D730102#32
  | 57 => 0xBF05A94C#32
  | 58 => 0x3F0E0E97#32
  | 59 => 0xBDC4B888#32
  | 60 => 0x3F424C80#32
  | 61 => 0x3ED8139F#32
  | 62 => 0x3EA0A5A8#32
  | 63 => 0xBFD25A5E#32
  | 64 => 0xBD097CA0#32
  | 65 => 0xBF4B6E72#32
  | 66 => 0x3EC72D22#32
  | 67 => 0x3FBEF73C#32
  | 68 => 0xBF6974C9#32
  | 69 => 0x400EAA84#32
  | 70 => 0xBEE80975#32
  | 71 => 0x4032BC20#32
  | 72 => 0x3F9B9316#32
  | 73 => 0x3F7D35FA#32
  | 74 => 0x3E79FF99#32
  | 75 => 0x3F6CA489#32
  | 76 => 0xBEECDCF8#32
  | 77 => 0x3FD2D750#32
  | 78 => 0xBF81E51A#32
  | 79 => 0xBDC873E1#32
  | 80 => 0x3F7EB5C6#32
  | 81 => 0xBF8D1DC6#32
  | 82 => 0x3F59E414#32
  | 83 => 0x4014157F#32
  | 84 => 0xBF7A4E92#32
  | 85 => 0xBF0E0808#32
  | 86 => 0x3FC575FE#32
  | 87 => 0x3E774519#32
  | 88 => 0xBF9F2918#32
  | 89 => 0xBF561F05#32
  | 90 => 0xBD9D2BDF#32
  | 91 => 0x40199FC0#32
  | 92 => 0x3F8E7961#32
  | 93 => 0x3C77CFDD#32
  | 94 => 0x3EA134D6#32
  | 95 => 0x3D7764F1#32
  | 96 => 0x3EA9CB3D#32
  | 97 => 0xBE4CD27B#32
  | 98 => 0x3D24AF6B#32
  | 99 => 0xBFA7C7D3#32
  | 100 => 0xBF0B40F1#32
  | 101 => 0x3FCD9733#32
  | 102 => 0x40106DCF#32
  | 103 => 0x3F9198F3#32
  | 104 => 0x408E9A01#32
  | 105 => 0xBE987DC3#32
  | 106 => 0xBF8A9CCA#32
  | 107 => 0x400947DA#32
  | 108 => 0xBE67289C#32
  | 109 => 0x3FAAEF3D#32
  | 110 => 0xBD979FE0#32
  | 111 => 0x3C98AE1D#32
  | 112 => 0xBF9215E4#32
  | 113 => 0xBF1D6FBA#32
  | 114 => 0x3FA7AB7D#32
  | 115 => 0xBEB63E2B#32
  | 116 => 0x3F1298BF#32
  | 117 => 0x3F2104A4#32
  | 118 => 0xBFAF4679#32
  | 119 => 0x403C3860#32
  | 120 => 0xBDDCEC03#32
  | 121 => 0x400D51DD#32
  | 122 => 0xBEC46496#32
  | 123 => 0xBEA58FF1#32
  | 124 => 0xBE457E89#32
  | 125 => 0xBF325F56#32
  | 126 => 0x3FD3F84D#32
  | 127 => 0xBF7F5336#32
  | _ => 0#32

noncomputable abbrev lit0t0_358 (i : Nat) : BitVec 32 := match i % 128 with
  | 0 => 0x400EF62E#32
  | 1 => 0x3FA2FA14#32
  | 2 => 0xBF60461C#32
  | 3 => 0xBF570382#32
  | 4 => 0x3FA701F7#32
  | 5 => 0x3FBB2B2A#32
  | 6 => 0xBE48EF0F#32
  | 7 => 0xBF6499A0#32
  | 8 => 0xBF91A5FE#32
  | 9 => 0xBFACE7E9#32
  | 10 => 0x3FDA59E9#32
  | 11 => 0x40D1C00E#32
  | 12 => 0x3E872CA3#32
  | 13 => 0xBF1D8725#32
  | 14 => 0x3FEB1356#32
  | 15 => 0x40934EE0#32
  | 16 => 0x3FAC1E9A#32
  | 17 => 0x3DD02D06#32
  | 18 => 0x3FD300D2#32
  | 19 => 0x4014C52C#32
  | 20 => 0x3E00F6A6#32
  | 21 => 0xBF62955A#32
  | 22 => 0x3FD6CF88#32
  | 23 => 0xBF07942C#32
  | 24 => 0x3FDC401E#32
  | 25 => 0x3FFFA7F6#32
  | 26 => 0x3F9D2804#32
  | 27 => 0x3F6B8357#32
  | 28 => 0x3F1790A7#32
  | 29 => 0xBF2E3A7B#32
  | 30 => 0x3FC4032B#32
  | 31 => 0x3F8CA582#32
  | 32 => 0x3F205C3E#32
  | 33 => 0x3FE4DB54#32
  | 34 => 0x400CA96C#32
  | 35 => 0x400931BC#32
  | 36 => 0x3E7A5A82#32
  | 37 => 0x4088A362#32
  | 38 => 0x3F90E370#32
  | 39 => 0xBEB227CA#32
  | 40 => 0xBF20C78C#32
  | 41 => 0x3FEDD46D#32
  | 42 => 0x3EAB8891#32
  | 43 => 0x3EACDEC1#32
  | 44 => 0xBEF9A0BA#32
  | 45 => 0x4009A7A9#32
  | 46 => 0x3EE2AA11#32
  | 47 => 0x407844A0#32
  | 48 => 0xBF643E16#32
  | 49 => 0x3DF48C68#32
  | 50 => 0xBED302E7#32
  | 51 => 0x3FA1DD47#32
  | 52 => 0x3CEA2BF7#32
  | 53 => 0x3FE29424#32
  | 54 => 0x4004A4B1#32
  | 55 => 0xBF09E052#32
  | 56 => 0x3E959CA8#32
  | 57 => 0x3FCC6905#32
  | 58 => 0xBF41939B#32
  | 59 => 0x4067B887#32
  | 60 => 0xBF3F50E2#32
  | 61 => 0xBF785600#32
  | 62 => 0x4006CB91#32
  | 63 => 0xBE0C98E9#32
  | 64 => 0x3F0B664C#32
  | 65 => 0xBF505606#32
  | 66 => 0x3E2E9EFE#32
  | 67 => 0xBEC77CE7#32
  | 68 => 0xBF39DB3B#32
  | 69 => 0x3F4DAEC7#32
  | 70 => 0xBF35BFC2#32
  | 71 => 0x3FD97C68#32
  | 72 => 0x3FB4386E#32
  | 73 => 0x407217A8#32
  | 74 => 0xBF95A396#32
  | 75 => 0x3EF9CA57#32
  | 76 => 0x3FD5A8AC#32
  | 77 => 0xBF9547E1#32
  | 78 => 0xBF05A76C#32
  | 79 => 0x40090A1E#32
  | 80 => 0x3EA8FB9E#32
  | 81 => 0x3FED0175#32
  | 82 => 0x4065640A#32
  | 83 => 0xBF7A047A#32
  | 84 => 0x40036E9B#32
  | 85 => 0x3F1D2D33#32
  | 86 => 0xBF30A622#32
  | 87 => 0x3F1A9997#32
  | 88 => 0xBF2AD984#32
  | 89 => 0xBF14DD29#32
  | 90 => 0x3F256F24#32
  | 91 => 0xBE23D53C#32
  | 92 => 0x3F40D0D2#32
  | 93 => 0x3FABDE26#32
  | 94 => 0x3F00819A#32
  | 95 => 0x3F86D98B#32
  | 96 => 0x3B3E90DC#32
  | 97 => 0x3F376DE7#32
  | 98 => 0x3FB51DFD#32
  | 99 => 0xBE937453#32
  | 100 => 0xBECC19B8#32
  | 101 => 0xBF83D5DB#32
  | 102 => 0xBF51D902#32
  | 103 => 0x3EE8A098#32
  | 104 => 0xBF0407F2#32
  | 105 => 0x3F0E00A0#32
  | 106 => 0x3F13F769#32
  | 107 => 0x3FA7DD74#32
  | 108 => 0x3F2BAB0D#32
  | 109 => 0xBEC513AB#32
  | 110 => 0xBF991E79#32
  | 111 => 0xBE2E7B94#32
  | 112 => 0x3D79F902#32
  | 113 => 0x409C6ECC#32
  | 114 => 0xBF8C3957#32
  | 115 => 0x3F5E71F9#32
  | 116 => 0x3F1C2F8F#32
  | 117 => 0x3F148A89#32
  | 118 => 0xBF9274EE#32
  | 119 => 0x3F90FF18#32
  | 120 => 0x3E5EAB9C#32
  | 121 => 0x3FBBD4CF#32
  | 122 => 0x3EB49224#32
  | 123 => 0xBB2A633F#32
  | 124 => 0xBF118092#32
  | 125 => 0x3FB0ABAC#32
  | 126 => 0x3FFED503#32
  | 127 => 0x3E231B14#32
  | _ => 0#32

noncomputable abbrev lit0t0_359 (i : Nat) : BitVec 32 := match i % 128 with
  | 0 => 0x3D3BC226#32
  | 1 => 0xBEC16F07#32
  | 2 => 0x3FAB4FE9#32
  | 3 => 0xBDB282C7#32
  | 4 => 0x405666F9#32
  | 5 => 0x4035C780#32
  | 6 => 0x403B6ADC#32
  | 7 => 0x3E8F8AEA#32
  | 8 => 0xBD815318#32
  | 9 => 0x3E9C095C#32
  | 10 => 0x408057AF#32
  | 11 => 0xBE533A4A#32
  | 12 => 0xBE5F4FD6#32
  | 13 => 0x3F170C34#32
  | 14 => 0x3F11177D#32
  | 15 => 0xBE958DCC#32
  | 16 => 0x3E0BB1DE#32
  | 17 => 0xBEA9DF27#32
  | 18 => 0x3F309185#32
  | 19 => 0x401A3906#32
  | 20 => 0xBED7703A#32
  | 21 => 0x40286566#32
  | 22 => 0xBE28354F#32
  | 23 => 0x3F6A8287#32
  | 24 => 0x40400F0E#32
  | 25 => 0x3DC1393E#32
  | 26 => 0x3FA365FC#32
  | 27 => 0x3F0581C3#32
  | 28 => 0x3FE27E64#32
  | 29 => 0xBE08B5F5#32
  | 30 => 0x40003C38#32
  | 31 => 0x3E55F9A0#32
  | 32 => 0xBF83F005#32
  | 33 => 0x3FAA0789#32
  | 34 => 0xBEADF1E4#32
  | 35 => 0x3EF4D296#32
  | 36 => 0x3FEBDF36#32
  | 37 => 0x400501E2#32
  | 38 => 0x3EF1C796#32
  | 39 => 0xBF38F41A#32
  | 40 => 0xBEDE83FA#32
  | 41 => 0x3FA193FB#32
  | 42 => 0xBE6452C3#32
  | 43 => 0x3F867CE0#32
  | 44 => 0x3FCFC755#32
  | 45 => 0x3FF048A3#32
  | 46 => 0x3F89C5A9#32
  | 47 => 0xBF5B34C2#32
  | 48 => 0x3F899D09#32
  | 49 => 0x3D06B24F#32
  | 50 => 0x3FA0DE75#32
  | 51 => 0x3FA25C9A#32
  | 52 => 0x3F436248#32
  | 53 => 0xBEB6B701#32
  | 54 => 0x3FCC0D9A#32
  | 55 => 0x3ECAFD77#32
  | 56 => 0xBE8B734D#32
  | 57 => 0xBEC018D7#32
  | 58 => 0xBDA51006#32
  | 59 => 0x3E4CAB27#32
  | 60 => 0x3FBE99A7#32
  | 61 => 0xBFB07B23#32
  | 62 => 0x3E8A71A1#32
  | 63 => 0x3EFB4D96#32
  | 64 => 0x3F94EA67#32
  | 65 => 0x3FF47F1A#32
  | 66 => 0x3F43E895#32
  | 67 => 0x3F13E898#32
  | 68 => 0x3FCA0D38#32
  | 69 => 0x3F7F4DA2#32
  | 70 => 0x400F6992#32
  | 71 => 0x3FF643DF#32
  | 72 => 0xBF1AD4F8#32
  | 73 => 0xBFC1520F#32
  | 74 => 0x3E14E279#32
  | 75 => 0x3F076CE5#32
  | 76 => 0xBE3619B6#32
  | 77 => 0xBF59B930#32
  | 78 => 0x409765C4#32
  | 79 => 0xBF5B18E0#32
  | 80 => 0xBEE98838#32
  | 81 => 0xBDCC4D00#32
  | 82 => 0x3EF8A96A#32
  | 83 => 0xBEFABB7A#32
  | 84 => 0x3F9278F5#32
  | 85 => 0x3F74F103#32
  | 86 => 0x3E8F0D1C#32
  | 87 => 0x4030019A#32
  | 88 => 0xBE0A771D#32
  | 89 => 0xBF31E855#32
  | 90 => 0x3F9331BB#32
  | 91 => 0xBF8F9094#32
  | 92 => 0x407C9BDD#32
  | 93 => 0x3FF19C87#32
  | 94 => 0x40215936#32
  | 95 => 0x3F9EFE65#32
  | 96 => 0x3FB88BBD#32
  | 97 => 0x3F5533B3#32
  | 98 => 0xBF76B0F0#32
  | 99 => 0x401CB221#32
  | 100 => 0x3EF2C903#32
  | 101 => 0x40C68255#32
  | 102 => 0xBE6A2C17#32
  | 103 => 0x3E438DC8#32
  | 104 => 0x3FFDBAFB#32
  | 105 => 0x400887CC#32
  | 106 => 0x4069FC7C#32
  | 107 => 0x3C7C0C88#32
  | 108 => 0xBFB3E384#32
  | 109 => 0xBF410E1B#32
  | 110 => 0xBD97B291#32
  | 111 => 0x3FCFCBA5#32
  | 112 => 0x4014FB42#32
  | 113 => 0x3F0044CE#32
  | 114 => 0xBF32B31C#32
  | 115 => 0x3ECF4D07#32
  | 116 => 0x3F1A05CA#32
  | 117 => 0x3FDFE536#32
  | 118 => 0xBE50DE33#32
  | 119 => 0x3FAF304B#32
  | 120 => 0x40939E06#32
  | 121 => 0x3F66E6B0#32
  | 122 => 0xBF3A2772#32
  | 123 => 0xBC973977#32
  | 124 => 0xBFE9BFDD#32
  | 125 => 0x3F840AB5#32
  | 126 => 0xBE99E0CF#32
  | 127 => 0x3F11AAF9#32
  | _ => 0#32

noncomputable abbrev lit0t0_360 (i : Nat) : BitVec 32 := match i % 128 with
  | 0 => 0xBF285CB9#32
  | 1 => 0x3F6CA938#32
  | 2 => 0x3F71EC96#32
  | 3 => 0x3F81C239#32
  | 4 => 0x3EDC7631#32
  | 5 => 0xBF81F3DC#32
  | 6 => 0x3D3F9D52#32
  | 7 => 0x400BB725#32
  | 8 => 0x3F7CA905#32
  | 9 => 0x3DF774BF#32
  | 10 => 0x3E858BA9#32
  | 11 => 0x3F495D03#32
  | 12 => 0x3F77947E#32
  | 13 => 0x3EFBCE6A#32
  | 14 => 0x3E81EAD3#32
  | 15 => 0xBCFB7F82#32
  | 16 => 0x3FE70D76#32
  | 17 => 0xBE81AEAD#32
  | 18 => 0x3DCA5F0E#32
  | 19 => 0x3EF9670C#32
  | 20 => 0x4000CD44#32
  | 21 => 0x3F636871#32
  | 22 => 0xBE8D30D7#32
  | 23 => 0x3C11BAED#32
  | 24 => 0xBDF5C5EF#32
  | 25 => 0xBEE33010#32
  | 26 => 0xBF0D23F0#32
  | 27 => 0x3F574D2D#32
  | 28 => 0x3F9E9984#32
  | 29 => 0x40650E75#32
  | 30 => 0x3E8428C4#32
  | 31 => 0x3E5BFB3F#32
  | 32 => 0xBE2113C6#32
  | 33 => 0x3F3D8935#32
  | 34 => 0x3F894584#32
  | 35 => 0x4098E44A#32
  | 36 => 0x3FFFA188#32
  | 37 => 0x3EBB3D3C#32
  | 38 => 0xBF5A4571#32
  | 39 => 0x3D6CDF53#32
  | 40 => 0xBD59B7DD#32
  | 41 => 0x40474EF9#32
  | 42 => 0xBF9A62E3#32
  | 43 => 0x3F50B92D#32
  | 44 => 0x40347E7E#32
  | 45 => 0x3F8C01C0#32
  | 46 => 0xBFB20A22#32
  | 47 => 0x3F8E924A#32
  | 48 => 0xBF15ECD1#32
  | 49 => 0xBE28D818#32
  | 50 => 0x3F8023D6#32
  | 51 => 0x3F1DA23B#32
  | 52 => 0xBF39B436#32
  | 53 => 0x3F3C1270#32
  | 54 => 0xBE060DDE#32
  | 55 => 0xBF7C0E5C#32
  | 56 => 0x3FA45DAA#32
  | 57 => 0x40650564#32
  | 58 => 0x3F43F415#32
  | 59 => 0x3ED718DF#32
  | 60 => 0x3F7617D2#32
  | 61 => 0x3FFC802F#32
  | 62 => 0xBEE4BF56#32
  | 63 => 0x3F3E4A99#32
  | 64 => 0xBFCAE3DE#32
  | 65 => 0x3EFA9FD2#32
  | 66 => 0x3FB36A0E#32
  | 67 => 0xBF99D39B#32
  | 68 => 0xBD8CE811#32
  | 69 => 0x3FD25330#32
  | 70 => 0x3F5EDB16#32
  | 71 => 0x3EE51D17#32
  | 72 => 0x3FEC0CAA#32
  | 73 => 0x3D0318B3#32
  | 74 => 0xBDEA9954#32
  | 75 => 0x3E417AC7#32
  | 76 => 0xBF8CA046#32
  | 77 => 0x401E5CBA#32
  | 78 => 0x3F87843E#32
  | 79 => 0xBF3734FD#32
  | 80 => 0x409EA19F#32
  | 81 => 0x3F466345#32
  | 82 => 0xBF02525E#32
  | 83 => 0xBEAE23B6#32
  | 84 => 0x3F95E0EC#32
  | 85 => 0x3F72B577#32
  | 86 => 0x401880C9#32
  | 87 => 0x4019F9CD#32
  | 88 => 0xBF1634AC#32
  | 89 => 0x3F497115#32
  | 90 => 0xBF0D3229#32
  | 91 => 0x3EA1907B#32
  | 92 => 0x3E00A44F#32
  | 93 => 0x3F107EF5#32
  | 94 => 0xBD8F4FC4#32
  | 95 => 0xBE4CCF07#32
  | 96 => 0xBF250149#32
  | 97 => 0x3FC8AC57#32
  | 98 => 0xBF084393#32
  | 99 => 0x3F363C6B#32
  | 100 => 0xBF944355#32
  | 101 => 0x3FB6EAF2#32
  | 102 => 0x3EBE8FD0#32
  | 103 => 0xBF56C272#32
  | 104 => 0x3C7C20D7#32
  | 105 => 0x3F3D5147#32
  | 106 => 0x3EACF3D0#32
  | 107 => 0xBF26DE0D#32
  | 108 => 0xBED5DAEB#32
  | 109 => 0x405124D4#32
  | 110 => 0x40127042#32
  | 111 => 0x40449620#32
  | 112 => 0x3E5E7DAA#32
  | 113 => 0x3F86A12A#32
  | 114 => 0xBF2D332F#32
  | 115 => 0x3ED67310#32
  | 116 => 0xBDB916F1#32
  | 117 => 0xBF667078#32
  | 118 => 0x407525E2#32
  | 119 => 0x3F420939#32
  | 120 => 0x3FE88A09#32
  | 121 => 0x3FDE0BD2#32
  | 122 => 0xBD34154C#32
  | 123 => 0xBF4679B0#32
  | 124 => 0xBDA01651#32
  | 125 => 0x40A64777#32
  | 126 => 0xBE90FFC8#32
  | 127 => 0xBFA6FB65#32
  | _ => 0#32

noncomputable abbrev lit0t0_361 (i : Nat) : BitVec 32 := match i % 128 with
  | 0 => 0xBFBB8A99#32
  | 1 => 0x3FF21DF2#32
  | 2 => 0x3C3AA7A9#32
  | 3 => 0xBF8E4892#32
  | 4 => 0x3F0DFDBF#32
  | 5 => 0x3E544115#32
  | 6 => 0x3E4183DC#32
  | 7 => 0x3FE20D22#32
  | 8 => 0xBE1AF99C#32
  | 9 => 0x3F0DBD04#32
  | 10 => 0x4040DC18#32
  | 11 => 0x3E924FE9#32
  | 12 => 0x3F8441CA#32
  | 13 => 0xBF6A02A9#32
  | 14 => 0x3ECBD5B8#32
  | 15 => 0xBC432BB9#32
  | 16 => 0x3F463F2E#32
  | 17 => 0x3FB0D3DB#32
  | 18 => 0x3EB8ECE5#32
  | 19 => 0x3F88BCB6#32
  | 20 => 0xBFE9FBA1#32
  | 21 => 0x3FC61808#32
  | 22 => 0xBEE94956#32
  | 23 => 0x3FB66DA0#32
  | 24 => 0x3EC8DBA7#32
  | 25 => 0x4005C12F#32
  | 26 => 0x40355908#32
  | 27 => 0x3F8D1E0F#32
  | 28 => 0x3F6E8DC2#32
  | 29 => 0x3FE1284B#32
  | 30 => 0x3F5A824D#32
  | 31 => 0xBE612072#32
  | 32 => 0xBF934598#32
  | 33 => 0xBF458A96#32
  | 34 => 0x3EC33678#32
  | 35 => 0x3F741CBF#32
  | 36 => 0xBE96E21A#32
  | 37 => 0x3F7CCB98#32
  | 38 => 0x3F6460F3#32
  | 39 => 0x4056F38D#32
  | 40 => 0xBFAD10A3#32
  | 41 => 0x3DC8951F#32
  | 42 => 0xBDD72FAA#32
  | 43 => 0x3F8AB407#32
  | 44 => 0xBE0C26FD#32
  | 45 => 0x3DD71E94#32
  | 46 => 0x3F903CD7#32
  | 47 => 0x3EE93568#32
  | 48 => 0x3F2974D0#32
  | 49 => 0x3FAB73FA#32
  | 50 => 0x3FEF1E30#32
  | 51 => 0xBF9CA85E#32
  | 52 => 0x3F242501#32
  | 53 => 0xBFA4F283#32
  | 54 => 0xBFC6BB6B#32
  | 55 => 0x3DA9C8B4#32
  | 56 => 0x3FA46142#32
  | 57 => 0x3FA3E009#32
  | 58 => 0xBF26F8BE#32
  | 59 => 0x3E46F878#32
  | 60 => 0x3C3CA2AF#32
  | 61 => 0xBE96575B#32
  | 62 => 0x3F3191E3#32
  | 63 => 0xBF24320B#32
  | 64 => 0x401B94C7#32
  | 65 => 0x3E59EB07#32
  | 66 => 0x3F81A81F#32
  | 67 => 0x3EC2FA02#32
  | 68 => 0x3E467D58#32
  | 69 => 0xBF097BE4#32
  | 70 => 0x3F080FD7#32
  | 71 => 0xBE78A3B4#32
  | 72 => 0x3F8F44A9#32
  | 73 => 0xBF0DA157#32
  | 74 => 0xBF7281D3#32
  | 75 => 0xBF17F696#32
  | 76 => 0x402E111C#32
  | 77 => 0xBF4F1191#32
  | 78 => 0xBF854D92#32
  | 79 => 0x403DAA05#32
  | 80 => 0x403289DB#32
  | 81 => 0x3FBA6A51#32
  | 82 => 0x3E19A146#32
  | 83 => 0xBEA97D8D#32
  | 84 => 0x3F99D014#32
  | 85 => 0x3D416CFB#32
  | 86 => 0x3EE9572E#32
  | 87 => 0x3ED1C20F#32
  | 88 => 0xBEF16108#32
  | 89 => 0x3FB78AE2#32
  | 90 => 0x3B641D84#32
  | 91 => 0xBF191F41#32
  | 92 => 0xBE6B22E0#32
  | 93 => 0xBE9410F4#32
  | 94 => 0x3E94B28F#32
  | 95 => 0x3EFC33B0#32
  | 96 => 0x3E25A630#32
  | 97 => 0xBEBB2166#32
  | 98 => 0x3FED8CCE#32
  | 99 => 0x3EB664DB#32
  | 100 => 0xBE302767#32
  | 101 => 0xBF131C42#32
  | 102 => 0x3FAD54B7#32
  | 103 => 0x3EE50024#32
  | 104 => 0x3FB54028#32
  | 105 => 0x3F93BDFA#32
  | 106 => 0x3D85E116#32
  | 107 => 0xBF61DCA8#32
  | 108 => 0x3F026440#32
  | 109 => 0x3FBA6F24#32
  | 110 => 0xBE16ECA2#32
  | 111 => 0xBF5A7D14#32
  | 112 => 0xBFA45527#32
  | 113 => 0xBF504AB0#32
  | 114 => 0xBF9B7B3A#32
  | 115 => 0x3FE30D9E#32
  | 116 => 0x3FA90D23#32
  | 117 => 0x3F2F6126#32
  | 118 => 0x3FE7DCD5#32
  | 119 => 0xBF9B213B#32
  | 120 => 0xBF02BF4C#32
  | 121 => 0x3E45801F#32
  | 122 => 0x3F4B9400#32
  | 123 => 0xBEC4BCAF#32
  | 124 => 0x3F12516E#32
  | 125 => 0xBDD1EB33#32
  | 126 => 0x3FA6C350#32
  | 127 => 0xBE9EC0D3#32
  | _ => 0#32

noncomputable abbrev lit0t0_362 (i : Nat) : BitVec 32 := match i % 128 with
  | 0 => 0xBECB157B#32
  | 1 => 0x3E595948#32
  | 2 => 0x3F17898E#32
  | 3 => 0x3F555ED7#32
  | 4 => 0x3FDFB4F2#32
  | 5 => 0xBEF671FD#32
  | 6 => 0x3FF6AEC1#32
  | 7 => 0x3E750DBD#32
  | 8 => 0x3F000B63#32
  | 9 => 0xBE055A12#32
  | 10 => 0x4047771C#32
  | 11 => 0xBFA21974#32
  | 12 => 0xBFA59F30#32
  | 13 => 0x3FF6B58D#32
  | 14 => 0xBFD53AE7#32
  | 15 => 0x3F021D3B#32
  | 16 => 0xBF9A6C56#32
  | 17 => 0x3F6388A9#32
  | 18 => 0x401D92AA#32
  | 19 => 0x4047AED1#32
  | 20 => 0xBD290F6A#32
  | 21 => 0x3D9586D6#32
  | 22 => 0xBF7AAA21#32
  | 23 => 0x3F6D5F3C#32
  | 24 => 0x3F30B8D9#32
  | 25 => 0x4014C2A9#32
  | 26 => 0x3E4AA0E6#32
  | 27 => 0xBF327A93#32
  | 28 => 0xBF0953DF#32
  | 29 => 0xBEB0B1D4#32
  | 30 => 0xBEBB6DC9#32
  | 31 => 0x3EA66278#32
  | 32 => 0x3F6F6CCE#32
  | 33 => 0x3FD95328#32
  | 34 => 0x3E9A748F#32
  | 35 => 0x4029A8C1#32
  | 36 => 0x4090DEA3#32
  | 37 => 0xBF062672#32
  | 38 => 0xBE97B5F8#32
  | 39 => 0x3E7513EE#32
  | 40 => 0xBE497D2C#32
  | 41 => 0x3FC06FF7#32
  | 42 => 0x4034105B#32
  | 43 => 0xBF0CAC60#32
  | 44 => 0xBFBF564C#32
  | 45 => 0x3F8A93AC#32
  | 46 => 0xBF931EE4#32
  | 47 => 0x3F73A3A2#32
  | 48 => 0x40613992#32
  | 49 => 0x3F9A998A#32
  | 50 => 0xBFD076A8#32
  | 51 => 0x3D0FBB39#32
  | 52 => 0x401FD848#32
  | 53 => 0x3F8EC020#32
  | 54 => 0x3F9E8D29#32
  | 55 => 0x3E8331D2#32
  | 56 => 0xBE7A5137#32
  | 57 => 0xBFA5020A#32
  | 58 => 0xBF195E66#32
  | 59 => 0x3F96CDB4#32
  | 60 => 0x3FC9B238#32
  | 61 => 0xBE8C53B1#32
  | 62 => 0xBE823372#32
  | 63 => 0x3FCB37D2#32
  | 64 => 0xBEDD70C8#32
  | 65 => 0xBF54D913#32
  | 66 => 0x3D5309D1#32
  | 67 => 0xBFA397C1#32
  | 68 => 0x3FC46DEA#32
  | 69 => 0xBB144309#32
  | 70 => 0xBF8BCACE#32
  | 71 => 0xBF1979FE#32
  | 72 => 0x4015D6B0#32
  | 73 => 0x40242825#32
  | 74 => 0x3E6C4879#32
  | 75 => 0x3EABE7A1#32
  | 76 => 0xBDE2AD9A#32
  | 77 => 0xBF36668D#32
  | 78 => 0xBEA106D3#32
  | 79 => 0x405B763D#32
  | 80 => 0xBC95E311#32
  | 81 => 0x3EFF3DEA#32
  | 82 => 0xBD9D1770#32
  | 83 => 0xBF5CBA4E#32
  | 84 => 0x3DFBE40C#32
  | 85 => 0x3F4B13A0#32
  | 86 => 0x3FD558BF#32
  | 87 => 0x3F6D0E49#32
  | 88 => 0x3C62EDB7#32
  | 89 => 0x400A220B#32
  | 90 => 0x400588DC#32
  | 91 => 0x3EDE590A#32
  | 92 => 0x3E398401#32
  | 93 => 0x3FA255FA#32
  | 94 => 0x3FA56E1B#32
  | 95 => 0x3F645712#32
  | 96 => 0x3FDF8545#32
  | 97 => 0x3F305863#32
  | 98 => 0x3F90D03A#32
  | 99 => 0xBF87B833#32
  | 100 => 0xBEEF3C7D#32
  | 101 => 0xBD8B8581#32
  | 102 => 0xBCADF319#32
  | 103 => 0x4053999A#32
  | 104 => 0x3FA870E6#32
  | 105 => 0x3DFA9246#32
  | 106 => 0x408FE94E#32
  | 107 => 0x3F081380#32
  | 108 => 0x3F2711A3#32
  | 109 => 0x40C8093B#32
  | 110 => 0xBEAA40F9#32
  | 111 => 0xBF802A44#32
  | 112 => 0xBF80A866#32
  | 113 => 0xBF892618#32
  | 114 => 0x3EF3B9C7#32
  | 115 => 0xBE1E91CF#32
  | 116 => 0xBE131486#32
  | 117 => 0xBF39E830#32
  | 118 => 0xBDB686CD#32
  | 119 => 0x3D846779#32
  | 120 => 0xBD96D1E9#32
  | 121 => 0x40055E2B#32
  | 122 => 0x3F4E3BFC#32
  | 123 => 0x40126950#32
  | 124 => 0x3F3771B6#32
  | 125 => 0xBDDA457F#32
  | 126 => 0x3FEEDCF7#32
  | 127 => 0x3F390B54#32
  | _ => 0#32

noncomputable abbrev lit0t0_363 (i : Nat) : BitVec 32 := match i % 128 with
  | 0 => 0xBDD53514#32
  | 1 => 0x40377CA1#32
  | 2 => 0x3F3ACDBC#32
  | 3 => 0xBDAED6BA#32
  | 4 => 0xBDE40495#32
  | 5 => 0x3E460280#32
  | 6 => 0xBF8E8B88#32
  | 7 => 0xBE80EC2E#32
  | 8 => 0x4017009A#32
  | 9 => 0x3FE1DBE4#32
  | 10 => 0x3EAA6837#32
  | 11 => 0x3EE90C28#32
  | 12 => 0x3F70FF4C#32
  | 13 => 0x3EDBFEC6#32
  | 14 => 0xBD073278#32
  | 15 => 0x3FCA49AF#32
  | 16 => 0xBE8DDD2F#32
  | 17 => 0x3F8B958E#32
  | 18 => 0x3F13A0AD#32
  | 19 => 0xBF83A892#32
  | 20 => 0x3E22899E#32
  | 21 => 0xBF58EBE4#32
  | 22 => 0x3EA3BC33#32
  | 23 => 0x3F2837DF#32
  | 24 => 0xBEDDDA28#32
  | 25 => 0xBEB741C9#32
  | 26 => 0x3FC6A5C0#32
  | 27 => 0x408FE46E#32
  | 28 => 0x3FC627DD#32
  | 29 => 0xBF280657#32
  | 30 => 0xBDA4B3A5#32
  | 31 => 0x4015B749#32
  | 32 => 0xBE8E4D27#32
  | 33 => 0xBF2808E7#32
  | 34 => 0xBF251BAB#32
  | 35 => 0x3FB13B73#32
  | 36 => 0x4018FC50#32
  | 37 => 0x3FDDBA09#32
  | 38 => 0x3E9C4693#32
  | 39 => 0xBE9CB13A#32
  | 40 => 0x40473027#32
  | 41 => 0x3E9460DF#32
  | 42 => 0x3F50FF46#32
  | 43 => 0x3E1F5FE3#32
  | 44 => 0x3F42DA43#32
  | 45 => 0xBDF9236B#32
  | 46 => 0x4001C1ED#32
  | 47 => 0xBE9A77E8#32
  | 48 => 0x4020F11A#32
  | 49 => 0xBF1E85DB#32
  | 50 => 0x3F4EDAEF#32
  | 51 => 0xBED82EFF#32
  | 52 => 0xBE3CBD03#32
  | 53 => 0x3E13B7E3#32
  | 54 => 0x3F0F2437#32
  | 55 => 0x407BC027#32
  | 56 => 0xBF4AFE11#32
  | 57 => 0x3ED89D5D#32
  | 58 => 0x3E0A7DAE#32
  | 59 => 0xBE0D4F39#32
  | 60 => 0x3FA3DE7A#32
  | 61 => 0xBF36AEA8#32
  | 62 => 0xBF29FA52#32
  | 63 => 0x40CE7497#32
  | 64 => 0x3F9D820C#32
  | 65 => 0x3F9C33F6#32
  | 66 => 0x3F1B2A29#32
  | 67 => 0x3DC73FEB#32
  | 68 => 0xBF4B8F5C#32
  | 69 => 0x3FC2035F#32
  | 70 => 0xBD6EF6E9#32
  | 71 => 0x3F6B68EC#32
  | 72 => 0xBF302D47#32
  | 73 => 0xBF8BE2A1#32
  | 74 => 0xBF908323#32
  | 75 => 0xBE3862FC#32
  | 76 => 0x3F02FEE6#32
  | 77 => 0x3D018EAC#32
  | 78 => 0x3EB60E43#32
  | 79 => 0xBF196AA4#32
  | 80 => 0x3F8FA5C0#32
  | 81 => 0x3FADAD11#32
  | 82 => 0x3F255054#32
  | 83 => 0x3F38A48A#32
  | 84 => 0x3F5F251A#32
  | 85 => 0xBEE0CB14#32
  | 86 => 0x3E710004#32
  | 87 => 0x3F95CC50#32
  | 88 => 0xBF336917#32
  | 89 => 0xBE98C504#32
  | 90 => 0xBE07DA0B#32
  | 91 => 0x3ECEBB0C#32
  | 92 => 0x4002C044#32
  | 93 => 0x400B6418#32
  | 94 => 0x403C16EB#32
  | 95 => 0xBE61B1B6#32
  | 96 => 0x3F08417E#32
  | 97 => 0x3FA1191A#32
  | 98 => 0xBF99BD7F#32
  | 99 => 0x3F38C276#32
  | 100 => 0x3EE460B5#32
  | 101 => 0x3E830FE6#32
  | 102 => 0xBD942F13#32
  | 103 => 0x3E370038#32
  | 104 => 0xBF766D14#32
  | 105 => 0x3F22BE20#32
  | 106 => 0xBDE509FA#32
  | 107 => 0xBFE0C37A#32
  | 108 => 0xBEF46758#32
  | 109 => 0x3F2448AD#32
  | 110 => 0x3F63FEA6#32
  | 111 => 0xBF2C613C#32
  | 112 => 0xBE46F028#32
  | 113 => 0xBF8F43A5#32
  | 114 => 0x400F0312#32
  | 115 => 0x3FACF044#32
  | 116 => 0x3FDB690D#32
  | 117 => 0xBF3837CF#32
  | 118 => 0x3F022EFB#32
  | 119 => 0x3F309C5F#32
  | 120 => 0x3EDD1C68#32
  | 121 => 0x3D6572EB#32
  | 122 => 0x3EA46C26#32
  | 123 => 0x3F127D87#32
  | 124 => 0x3E1E4F2C#32
  | 125 => 0x3F4F911F#32
  | 126 => 0x3FB64736#32
  | 127 => 0xBE64A284#32
  | _ => 0#32

noncomputable abbrev lit0t0_364 (i : Nat) : BitVec 32 := match i % 128 with
  | 0 => 0x3F98BD4B#32
  | 1 => 0xBF162BFD#32
  | 2 => 0xBFBABDE7#32
  | 3 => 0x3F0BCBDF#32
  | 4 => 0xBFA37490#32
  | 5 => 0x3F454141#32
  | 6 => 0x3F8092D5#32
  | 7 => 0x3F132E62#32
  | 8 => 0x406F94BD#32
  | 9 => 0x3DFEBA14#32
  | 10 => 0x40971A03#32
  | 11 => 0xBEC55E76#32
  | 12 => 0x3FE5EC46#32
  | 13 => 0x3FA54A58#32
  | 14 => 0xBEB05680#32
  | 15 => 0x3EEA5309#32
  | 16 => 0x3E399C2A#32
  | 17 => 0x3E7AA8EA#32
  | 18 => 0x3D75EF39#32
  | 19 => 0xBF3E3B7B#32
  | 20 => 0x3F107F52#32
  | 21 => 0x400F96A8#32
  | 22 => 0xBF8315AC#32
  | 23 => 0x3F058CA8#32
  | 24 => 0xBEE893BA#32
  | 25 => 0xBF5739B0#32
  | 26 => 0x3F5F40A9#32
  | 27 => 0xBF3777EC#32
  | 28 => 0x404B2831#32
  | 29 => 0x3EDCA4B0#32
  | 30 => 0xBF502D81#32
  | 31 => 0xBF0BDD21#32
  | 32 => 0xBE35417F#32
  | 33 => 0xBEAD2AEB#32
  | 34 => 0x4062B8D4#32
  | 35 => 0xBF71314B#32
  | 36 => 0xBF019DC5#32
  | 37 => 0x3F2228FF#32
  | 38 => 0xBEC8ADCB#32
  | 39 => 0x401F3934#32
  | 40 => 0x3F1F3008#32
  | 41 => 0x3F02FEED#32
  | 42 => 0x3E882E3E#32
  | 43 => 0x3E10F191#32
  | 44 => 0xBF327A67#32
  | 45 => 0xBE10C902#32
  | 46 => 0x3EF38B04#32
  | 47 => 0xBDE925F2#32
  | 48 => 0x3E7FB3A1#32
  | 49 => 0x4070383F#32
  | 50 => 0x3F0E168A#32
  | 51 => 0x402F08DD#32
  | 52 => 0xBF373320#32
  | 53 => 0x3DA76EB0#32
  | 54 => 0x3F907EF1#32
  | 55 => 0x3EA55CA6#32
  | 56 => 0xBF131B1E#32
  | 57 => 0x3F4E400E#32
  | 58 => 0x3E468EE3#32
  | 59 => 0x3F2CCF24#32
  | 60 => 0x3F9E9B8E#32
  | 61 => 0xBFABCA3D#32
  | 62 => 0xBFAA2A3E#32
  | 63 => 0xBF95B4D4#32
  | 64 => 0x3ED32BF7#32
  | 65 => 0x3EDC9FA1#32
  | 66 => 0x3FF1E0E4#32
  | 67 => 0x3EA384BE#32
  | 68 => 0x3EC185BE#32
  | 69 => 0x3EA3543B#32
  | 70 => 0xBF497625#32
  | 71 => 0x3DCB3D7F#32
  | 72 => 0x4015BDF0#32
  | 73 => 0x403708C2#32
  | 74 => 0x3F5EED9B#32
  | 75 => 0x3F1BE679#32
  | 76 => 0x3F9DA948#32
  | 77 => 0xBE900DE2#32
  | 78 => 0x3DE6F49A#32
  | 79 => 0x4051FA57#32
  | 80 => 0x3FB909E1#32
  | 81 => 0xBE16EEF3#32
  | 82 => 0xBF5EE198#32
  | 83 => 0x3C2676C2#32
  | 84 => 0xBD79E354#32
  | 85 => 0x4013C809#32
  | 86 => 0x3EF9423D#32
  | 87 => 0xBF154978#32
  | 88 => 0x3FF364D1#32
  | 89 => 0xBEDFB7FD#32
  | 90 => 0x3FA6025A#32
  | 91 => 0x3F842456#32
  | 92 => 0x4001AA7D#32
  | 93 => 0x3F161D83#32
  | 94 => 0x3ECE194E#32
  | 95 => 0x3ED0EE5E#32
  | 96 => 0xBF093249#32
  | 97 => 0xBEC20608#32
  | 98 => 0xBDB3C0A9#32
  | 99 => 0x3F906A08#32
  | 100 => 0xBF3C8436#32
  | 101 => 0x402BB0E0#32
  | 102 => 0x3F614778#32
  | 103 => 0x3E01F086#32
  | 104 => 0xBEF3093D#32
  | 105 => 0x3FB27D22#32
  | 106 => 0x3F5543DC#32
  | 107 => 0xBF662BAD#32
  | 108 => 0x3F9D8CE6#32
  | 109 => 0x3F12B6E4#32
  | 110 => 0x3F29630D#32
  | 111 => 0x4054FA30#32
  | 112 => 0x4037B6DB#32
  | 113 => 0x3C8C688A#32
  | 114 => 0xBF8804A6#32
  | 115 => 0x400E4D7B#32
  | 116 => 0xBFC9D891#32
  | 117 => 0xBEB769F8#32
  | 118 => 0x3F9AF468#32
  | 119 => 0x3F1DDC47#32
  | 120 => 0xBF6643D8#32
  | 121 => 0x3F16B8CB#32
  | 122 => 0xBF202236#32
  | 123 => 0x3F59E51E#32
  | 124 => 0xBE271273#32
  | 125 => 0xBF91233B#32
  | 126 => 0xBD66A03A#32
  | 127 => 0x3E48004C#32
  | _ => 0#32

noncomputable abbrev lit0t0_365 (i : Nat) : BitVec 32 := match i % 128 with
  | 0 => 0x408501BE#32
  | 1 => 0x3D977D85#32
  | 2 => 0xBE9F8AEA#32
  | 3 => 0x3FB31E2C#32
  | 4 => 0x3FAFB5A1#32
  | 5 => 0xBEBD29CF#32
  | 6 => 0x3E0DDAE7#32
  | 7 => 0x3F287203#32
  | 8 => 0x40072E48#32
  | 9 => 0xBE17C86F#32
  | 10 => 0x3E94BCB6#32
  | 11 => 0xBFA084A1#32
  | 12 => 0x3EC578FD#32
  | 13 => 0x3D372185#32
  | 14 => 0xBF121C3D#32
  | 15 => 0x4033E383#32
  | 16 => 0x3DA25E08#32
  | 17 => 0x3EB26AD9#32
  | 18 => 0x3E72EDD4#32
  | 19 => 0x3EBB2C33#32
  | 20 => 0xBFBB3890#32
  | 21 => 0x3F273A06#32
  | 22 => 0x40262EE4#32
  | 23 => 0x3E3B7C13#32
  | 24 => 0x40A328D5#32
  | 25 => 0xBF35DB47#32
  | 26 => 0x3FB334E4#32
  | 27 => 0xBF7D02CE#32
  | 28 => 0xBF7EB407#32
  | 29 => 0x3F5B87D5#32
  | 30 => 0x3F319F99#32
  | 31 => 0x3F670214#32
  | 32 => 0x408A2EB6#32
  | 33 => 0x3FE69018#32
  | 34 => 0xBF8B04A2#32
  | 35 => 0x3F6D972E#32
  | 36 => 0x400DED83#32
  | 37 => 0xBE81E901#32
  | 38 => 0x3F91C546#32
  | 39 => 0xBED13E9F#32
  | 40 => 0x3F6CC170#32
  | 41 => 0x402F9A00#32
  | 42 => 0xBF28F4D0#32
  | 43 => 0x3FD9D9A6#32
  | 44 => 0xBEF0ABE6#32
  | 45 => 0x3FDE544E#32
  | 46 => 0xBF94A504#32
  | 47 => 0x3F3C64B0#32
  | 48 => 0xBF1EF7CF#32
  | 49 => 0xBF4BEEEB#32
  | 50 => 0xBF6EBF4E#32
  | 51 => 0xBE999BC9#32
  | 52 => 0xBFCDF109#32
  | 53 => 0x3F86EB3B#32
  | 54 => 0xBF0E58AE#32
  | 55 => 0x3F5A2822#32
  | 56 => 0x3F598C15#32
  | 57 => 0x3FC2D6AA#32
  | 58 => 0xBF9B5A84#32
  | 59 => 0x3FBC6148#32
  | 60 => 0x3FC14A95#32
  | 61 => 0xBF4BB6DD#32
  | 62 => 0x3F7B2C98#32
  | 63 => 0xBEB373A3#32
  | 64 => 0x402F8A25#32
  | 65 => 0xBFDB5B14#32
  | 66 => 0x3D479141#32
  | 67 => 0x3DA8D36E#32
  | 68 => 0x3F661DB8#32
  | 69 => 0x40869819#32
  | 70 => 0xBFC7F3AF#32
  | 71 => 0x3FACACCC#32
  | 72 => 0x40A6AF54#32
  | 73 => 0x3F80D43C#32
  | 74 => 0x3F2CC338#32
  | 75 => 0xBF0CD7C2#32
  | 76 => 0x3F33AB79#32
  | 77 => 0x4020A730#32
  | 78 => 0xBF042701#32
  | 79 => 0x3F2C29A7#32
  | 80 => 0x3E69404F#32
  | 81 => 0xBF44A51A#32
  | 82 => 0x3FE53324#32
  | 83 => 0xBF83E6FD#32
  | 84 => 0x3E324605#32
  | 85 => 0xBF0A2B48#32
  | 86 => 0xBD0FF217#32
  | 87 => 0xBF040E78#32
  | 88 => 0x40069A39#32
  | 89 => 0xBEF56B56#32
  | 90 => 0xBEF0A8FF#32
  | 91 => 0x3FB46F2E#32
  | 92 => 0x40193C04#32
  | 93 => 0x3FD168ED#32
  | 94 => 0xBFA42F32#32
  | 95 => 0xBF7D3ABB#32
  | 96 => 0xBE31DA78#32
  | 97 => 0xBE824D43#32
  | 98 => 0xBF18771B#32
  | 99 => 0x3FBD3D9E#32
  | 100 => 0x3FAEC3E2#32
  | 101 => 0x3EE52B20#32
  | 102 => 0x3EE84E52#32
  | 103 => 0x3D794850#32
  | 104 => 0xBF2DCDB2#32
  | 105 => 0x3FE48525#32
  | 106 => 0x4017CB23#32
  | 107 => 0x3F747920#32
  | 108 => 0xBF1F1028#32
  | 109 => 0xBD12D998#32
  | 110 => 0x3FAA11C3#32
  | 111 => 0x3FA10611#32
  | 112 => 0x3F212689#32
  | 113 => 0x3F64E677#32
  | 114 => 0xBF302467#32
  | 115 => 0x3E8FA3E0#32
  | 116 => 0xBF7C0726#32
  | 117 => 0x3F591B50#32
  | 118 => 0xBD826383#32
  | 119 => 0x400D790A#32
  | 120 => 0x400E399B#32
  | 121 => 0x3FF2D0C0#32
  | 122 => 0xBE329665#32
  | 123 => 0x3FF0D929#32
  | 124 => 0x3F64748A#32
  | 125 => 0x402BC06B#32
  | 126 => 0x3FE1FF2E#32
  | 127 => 0xBF94FD3A#32
  | _ => 0#32

noncomputable abbrev lit0t0_366 (i : Nat) : BitVec 32 := match i % 128 with
  | 0 => 0xBE456887#32
  | 1 => 0x402A1562#32
  | 2 => 0x400C8906#32
  | 3 => 0xBFC29CFD#32
  | 4 => 0x3EDD8FCF#32
  | 5 => 0x3E7A928F#32
  | 6 => 0x3F06D8C0#32
  | 7 => 0xBF9EE544#32
  | 8 => 0x3FDF0B96#32
  | 9 => 0x3F0A413E#32
  | 10 => 0xBEDDD87E#32
  | 11 => 0x3EA2A5E7#32
  | 12 => 0x3D17F8E4#32
  | 13 => 0xBFDEFC05#32
  | 14 => 0xBFB6D7E8#32
  | 15 => 0x3D376076#32
  | 16 => 0xBC8B353B#32
  | 17 => 0xBF0032F2#32
  | 18 => 0xBEBF9E91#32
  | 19 => 0xBF458AA6#32
  | 20 => 0x3FC120FC#32
  | 21 => 0xBF0C1E5B#32
  | 22 => 0xBEB37FB3#32
  | 23 => 0xBF851BB7#32
  | 24 => 0xBF22185E#32
  | 25 => 0x3E9467ED#32
  | 26 => 0x3F02CBEE#32
  | 27 => 0x40BD63D7#32
  | 28 => 0x3F02E738#32
  | 29 => 0xBF2EC491#32
  | 30 => 0x3EEADCEC#32
  | 31 => 0x3E841F7C#32
  | 32 => 0xBE2A8D3D#32
  | 33 => 0xBE81408C#32
  | 34 => 0x3E7FE8DE#32
  | 35 => 0x401B7BD8#32
  | 36 => 0x3EC44099#32
  | 37 => 0x40419AD4#32
  | 38 => 0x3F840312#32
  | 39 => 0x4078A895#32
  | 40 => 0xBF1A32C7#32
  | 41 => 0x3F65248A#32
  | 42 => 0x40B03C89#32
  | 43 => 0x3F4783F6#32
  | 44 => 0xBEBABFF9#32
  | 45 => 0x3EF48AC6#32
  | 46 => 0xBF5135D0#32
  | 47 => 0x3F637B46#32
  | 48 => 0xBEE939C0#32
  | 49 => 0x3FA51422#32
  | 50 => 0xBD77466E#32
  | 51 => 0x40347045#32
  | 52 => 0xBF7388E4#32
  | 53 => 0x3F98B4D9#32
  | 54 => 0x3F9729BC#32
  | 55 => 0x3E97ED8B#32
  | 56 => 0xBC1BC3D9#32
  | 57 => 0x3F59FD52#32
  | 58 => 0xBF286379#32
  | 59 => 0x3F86D7C0#32
  | 60 => 0x3F929317#32
  | 61 => 0xBF9123D2#32
  | 62 => 0xBE25901E#32
  | 63 => 0x3E9487E2#32
  | 64 => 0x3E8C146A#32
  | 65 => 0x3FA30BBE#32
  | 66 => 0x4005AA2A#32
  | 67 => 0xBFBF2577#32
  | 68 => 0xBEDB0779#32
  | 69 => 0x3EF80279#32
  | 70 => 0x3F4326D0#32
  | 71 => 0x3CCC92C0#32
  | 72 => 0x3FAD582E#32
  | 73 => 0x3F3BB6D9#32
  | 74 => 0xBEA8C42A#32
  | 75 => 0x3F023556#32
  | 76 => 0x3E46BF0D#32
  | 77 => 0xBFC694C5#32
  | 78 => 0x3F4D552E#32
  | 79 => 0x3F4782F7#32
  | 80 => 0x3DCA6329#32
  | 81 => 0x3FB48308#32
  | 82 => 0x391462B0#32
  | 83 => 0x3CF88CD4#32
  | 84 => 0x3F93A918#32
  | 85 => 0xBE66BCF8#32
  | 86 => 0x3E819969#32
  | 87 => 0xBF865A1E#32
  | 88 => 0xBEEC2BF6#32
  | 89 => 0xBF8D581A#32
  | 90 => 0x3F00DEF8#32
  | 91 => 0xBE1CD956#32
  | 92 => 0xBF22BCA3#32
  | 93 => 0x3FC388CC#32
  | 94 => 0x3ED8A0DC#32
  | 95 => 0xBD8FCD1A#32
  | 96 => 0x3FC31DF2#32
  | 97 => 0x3F8186D2#32
  | 98 => 0x3FFAFAFE#32
  | 99 => 0xBF04666A#32
  | 100 => 0xBEE81A21#32
  | 101 => 0xBE77AEED#32
  | 102 => 0x400D5407#32
  | 103 => 0xBF242C45#32
  | 104 => 0xBF722031#32
  | 105 => 0x3CEC7ECF#32
  | 106 => 0xBF2A0F2C#32
  | 107 => 0xBF2C790C#32
  | 108 => 0xBEBF807C#32
  | 109 => 0xBEBEEC4B#32
  | 110 => 0x3BA68320#32
  | 111 => 0xBF766ACA#32
  | 112 => 0xBEB45035#32
  | 113 => 0xBF079318#32
  | 114 => 0x3FBDBD68#32
  | 115 => 0x3F7B7F86#32
  | 116 => 0x3E8344D2#32
  | 117 => 0xBF113967#32
  | 118 => 0x3FCC8113#32
  | 119 => 0xBF0192D0#32
  | 120 => 0x3F850512#32
  | 121 => 0x40561F39#32
  | 122 => 0x41040DB0#32
  | 123 => 0xBCF36D60#32
  | 124 => 0xBF12FB86#32
  | 125 => 0xBF4F5789#32
  | 126 => 0xBEBA29C8#32
  | 127 => 0x3EB37E29#32
  | _ => 0#32

noncomputable abbrev lit0t0_367 (i : Nat) : BitVec 32 := match i % 128 with
  | 0 => 0xBF65F60A#32
  | 1 => 0xBF8179EF#32
  | 2 => 0x3D2E9CC7#32
  | 3 => 0xBF4332E9#32
  | 4 => 0xBF7E98BF#32
  | 5 => 0xBF64E11E#32
  | 6 => 0x3EAACD0E#32
  | 7 => 0x3F81FD96#32
  | 8 => 0x3FC157AF#32
  | 9 => 0x3E59E3D7#32
  | 10 => 0x3F5AAC7E#32
  | 11 => 0xBF25F7B2#32
  | 12 => 0xBED8C472#32
  | 13 => 0x3FDD4344#32
  | 14 => 0xBF04D266#32
  | 15 => 0xBF0B11C4#32
  | 16 => 0xBD8A5C03#32
  | 17 => 0x3EB88E9C#32
  | 18 => 0x3E8245EB#32
  | 19 => 0x3FAACDA8#32
  | 20 => 0xBB924251#32
  | 21 => 0x4062ABC6#32
  | 22 => 0x3F81085C#32
  | 23 => 0xBF374F74#32
  | 24 => 0x3F194AB9#32
  | 25 => 0x4012AC4A#32
  | 26 => 0x3FAA1DD7#32
  | 27 => 0x3F11A2C1#32
  | 28 => 0xBF33F5F8#32
  | 29 => 0xBF3B993B#32
  | 30 => 0x3E580025#32
  | 31 => 0x402EF0AB#32
  | 32 => 0x3F206CED#32
  | 33 => 0xBDDE6BC4#32
  | 34 => 0x3FA16473#32
  | 35 => 0x3E03C541#32
  | 36 => 0x3FA1CEA3#32
  | 37 => 0xBEAD9D6E#32
  | 38 => 0x3FAC63B0#32
  | 39 => 0x3F2C5EF4#32
  | 40 => 0x3D0AA7D2#32
  | 41 => 0xBF73E32A#32
  | 42 => 0x4041BA26#32
  | 43 => 0x3F9040A9#32
  | 44 => 0x3E4ECE3F#32
  | 45 => 0x3E3AF2DE#32
  | 46 => 0xBE7C7F63#32
  | 47 => 0x3F6E2809#32
  | 48 => 0xBEB9E4FF#32
  | 49 => 0x3E02DA25#32
  | 50 => 0xBFA58AC9#32
  | 51 => 0x40415055#32
  | 52 => 0xBF773975#32
  | 53 => 0x3D255867#32
  | 54 => 0x3F48C223#32
  | 55 => 0x3FAF5A1C#32
  | 56 => 0xBF526D6B#32
  | 57 => 0x3F736AC0#32
  | 58 => 0x3FE3B754#32
  | 59 => 0xBF988B03#32
  | 60 => 0x3EF6CFFC#32
  | 61 => 0x3F892E5D#32
  | 62 => 0x3F8071C8#32
  | 63 => 0x3E980DB1#32
  | 64 => 0x3F08BF49#32
  | 65 => 0xBFB819D5#32
  | 66 => 0xBEFB538E#32
  | 67 => 0xBDC04696#32
  | 68 => 0xBFC81AC0#32
  | 69 => 0x3F97E381#32
  | 70 => 0x3FBCC056#32
  | 71 => 0xBFD65E34#32
  | 72 => 0x3FD6D316#32
  | 73 => 0x3F01770C#32
  | 74 => 0x4029B859#32
  | 75 => 0x3EF9361C#32
  | 76 => 0x40373E40#32
  | 77 => 0x3F2A1C51#32
  | 78 => 0xBF20E45E#32
  | 79 => 0xBEAE38C7#32
  | 80 => 0xBE8425CF#32
  | 81 => 0xBD3A0590#32
  | 82 => 0x3F2C5FA5#32
  | 83 => 0x3F7C4312#32
  | 84 => 0xBD8EB7FE#32
  | 85 => 0xBE61520E#32
  | 86 => 0xBE82D257#32
  | 87 => 0x3F60ABEE#32
  | 88 => 0x3F92AC00#32
  | 89 => 0xBF804598#32
  | 90 => 0x3F89AD41#32
  | 91 => 0x3D7ADC0A#32
  | 92 => 0x3FA522C8#32
  | 93 => 0x3D0C90B4#32
  | 94 => 0xBF84823E#32
  | 95 => 0xBF734DA8#32
  | 96 => 0x3D00CE43#32
  | 97 => 0x3E8F19B3#32
  | 98 => 0x3F9F876D#32
  | 99 => 0xBF088B9A#32
  | 100 => 0x4024D0AD#32
  | 101 => 0xBFC4CECE#32
  | 102 => 0x40AD29B7#32
  | 103 => 0xBE941D01#32
  | 104 => 0x3DED3AFC#32
  | 105 => 0xBD5CD83A#32
  | 106 => 0x3F9E38BA#32
  | 107 => 0xBD83D441#32
  | 108 => 0x3FAFFB5B#32
  | 109 => 0xBFD345E8#32
  | 110 => 0x3FAE5FA8#32
  | 111 => 0xBE400104#32
  | 112 => 0xBEF27397#32
  | 113 => 0x403CF42B#32
  | 114 => 0x3EE5968E#32
  | 115 => 0x3FD87D91#32
  | 116 => 0x3F2E788F#32
  | 117 => 0x3FB2964B#32
  | 118 => 0x3F8BCB50#32
  | 119 => 0xBD722EF0#32
  | 120 => 0x3F9611D2#32
  | 121 => 0xBEE2CF3B#32
  | 122 => 0x40421206#32
  | 123 => 0xBE228F5B#32
  | 124 => 0x3F56895A#32
  | 125 => 0xBF4229BE#32
  | 126 => 0xBF0EFFC3#32
  | 127 => 0x3F2E5F13#32
  | _ => 0#32

noncomputable abbrev lit0t0_368 (i : Nat) : BitVec 32 := match i % 128 with
  | 0 => 0x3EB8E006#32
  | 1 => 0x4080A65D#32
  | 2 => 0xBF06A57D#32
  | 3 => 0x4044DC81#32
  | 4 => 0x3F16BBEE#32
  | 5 => 0x3DF71DA7#32
  | 6 => 0xBF8E0B6B#32
  | 7 => 0x3FA1B8FF#32
  | 8 => 0x40170C14#32
  | 9 => 0xBE84E9B9#32
  | 10 => 0x3E1542EA#32
  | 11 => 0xBF00B85C#32
  | 12 => 0xBF20C934#32
  | 13 => 0x3EAA25A8#32
  | 14 => 0xBFBC888D#32
  | 15 => 0xBFAC1ADE#32
  | 16 => 0x3F855BCB#32
  | 17 => 0x3DB6A52D#32
  | 18 => 0x3E08A059#32
  | 19 => 0xBF265966#32
  | 20 => 0xBF02B52D#32
  | 21 => 0x3EDA780F#32
  | 22 => 0xBF837508#32
  | 23 => 0xBE140053#32
  | 24 => 0x40428D43#32
  | 25 => 0xBE34E517#32
  | 26 => 0x3E6CE458#32
  | 27 => 0x3EA1C8AE#32
  | 28 => 0xBF187FDA#32
  | 29 => 0x3F7939BE#32
  | 30 => 0xBD934462#32
  | 31 => 0x3FD35A5A#32
  | 32 => 0x3F598CCF#32
  | 33 => 0xBE617FD8#32
  | 34 => 0xBF1801AA#32
  | 35 => 0xBEE962CE#32
  | 36 => 0x3F0E470A#32
  | 37 => 0x3F88CF6F#32
  | 38 => 0x3F37E4CE#32
  | 39 => 0xBFF233ED#32
  | 40 => 0x3FDFDCAA#32
  | 41 => 0xBF6ED958#32
  | 42 => 0xBDBE4C90#32
  | 43 => 0x3F89BA7E#32
  | 44 => 0x3FE7DA4D#32
  | 45 => 0xBFBB93B4#32
  | 46 => 0x3F49E169#32
  | 47 => 0xBF8376B2#32
  | 48 => 0x3F252E20#32
  | 49 => 0xBF87C84E#32
  | 50 => 0x3ECF45C7#32
  | 51 => 0x400EBAA7#32
  | 52 => 0xBE429FCD#32
  | 53 => 0x4024F3F3#32
  | 54 => 0x40084A3B#32
  | 55 => 0xBF831FAC#32
  | 56 => 0x40228E9A#32
  | 57 => 0xBEC60530#32
  | 58 => 0xBF934BBE#32
  | 59 => 0x3EBB33AF#32
  | 60 => 0xBEC9D5BC#32
  | 61 => 0x3F4FEA85#32
  | 62 => 0xBBF86E4E#32
  | 63 => 0x3ED108C8#32
  | 64 => 0x3FF1D622#32
  | 65 => 0x3EA95C30#32
  | 66 => 0xBFAAFDEA#32
  | 67 => 0x400C9512#32
  | 68 => 0x3F54CFDC#32
  | 69 => 0xBF2E6F8E#32
  | 70 => 0xBF52EB36#32
  | 71 => 0x3F07E605#32
  | 72 => 0x3FAA969E#32
  | 73 => 0xBEAD0BA0#32
  | 74 => 0x402AB91F#32
  | 75 => 0x40764711#32
  | 76 => 0xBE495683#32
  | 77 => 0xBF197B80#32
  | 78 => 0xBF6E7448#32
  | 79 => 0xBF28DAF0#32
  | 80 => 0x3FAD6726#32
  | 81 => 0xBDE084D9#32
  | 82 => 0x3F971F8C#32
  | 83 => 0x4015A724#32
  | 84 => 0xBF465ACD#32
  | 85 => 0x3FE52714#32
  | 86 => 0x3E8C6CE9#32
  | 87 => 0x3F761D64#32
  | 88 => 0x3F39668E#32
  | 89 => 0xBF28293A#32
  | 90 => 0x3F1FEC7C#32
  | 91 => 0x3DEA87B8#32
  | 92 => 0xBF868CDA#32
  | 93 => 0x3F2A62F9#32
  | 94 => 0xBF9E510E#32
  | 95 => 0xBE3C812D#32
  | 96 => 0xBF2CDC67#32
  | 97 => 0x405F586A#32
  | 98 => 0x3F42625A#32
  | 99 => 0x3F1B568C#32
  | 100 => 0xBF49D8FD#32
  | 101 => 0x3F4DA578#32
  | 102 => 0x3E49074D#32
  | 103 => 0x3F88F018#32
  | 104 => 0xBF01FB20#32
  | 105 => 0xBF44532D#32
  | 106 => 0xBE52521B#32
  | 107 => 0x401A1030#32
  | 108 => 0x3FACF37A#32
  | 109 => 0x4015010B#32
  | 110 => 0xBE2FFF33#32
  | 111 => 0xBD2EE2B8#32
  | 112 => 0x4054FFB8#32
  | 113 => 0xBD98ABD5#32
  | 114 => 0xBE2E253A#32
  | 115 => 0xBF79FD9C#32
  | 116 => 0x3F18CEE8#32
  | 117 => 0xBF318E60#32
  | 118 => 0xBF9FC3BA#32
  | 119 => 0xBE8664A3#32
  | 120 => 0x3E194295#32
  | 121 => 0xBEE0C793#32
  | 122 => 0x3EA72A01#32
  | 123 => 0xBF4A1D1B#32
  | 124 => 0x3F4D4730#32
  | 125 => 0x3F46E1C1#32
  | 126 => 0x3FC918C9#32
  | 127 => 0x3F378551#32
  | _ => 0#32

noncomputable abbrev lit0t0_369 (i : Nat) : BitVec 32 := match i % 128 with
  | 0 => 0x3F164045#32
  | 1 => 0x3FE312B0#32
  | 2 => 0x3FABF00F#32
  | 3 => 0x3FB72532#32
  | 4 => 0x3DCB4E3B#32
  | 5 => 0x402BC0AA#32
  | 6 => 0xBEFB6608#32
  | 7 => 0xBF88F142#32
  | 8 => 0x3F9AAC4B#32
  | 9 => 0x3E1E5990#32
  | 10 => 0x3F0124A0#32
  | 11 => 0x3F06C7C1#32
  | 12 => 0x406D9FC8#32
  | 13 => 0x4061180E#32
  | 14 => 0x3FF2EF39#32
  | 15 => 0x3E39C209#32
  | 16 => 0x3FA6F35D#32
  | 17 => 0xBE2DEC62#32
  | 18 => 0x40AAF954#32
  | 19 => 0xBE73CBD8#32
  | 20 => 0x3F135B43#32
  | 21 => 0xBF2AEB38#32
  | 22 => 0x3FC4E6B5#32
  | 23 => 0x3F680118#32
  | 24 => 0x3FB2E08B#32
  | 25 => 0xBE403AC2#32
  | 26 => 0x3EEF3A0E#32
  | 27 => 0x3F0D16C6#32
  | 28 => 0x40746A8F#32
  | 29 => 0x4042DF0A#32
  | 30 => 0x3FA40C4B#32
  | 31 => 0x3F834DDF#32
  | 32 => 0xBEFD48F3#32
  | 33 => 0xBE9675BF#32
  | 34 => 0x3EFA2934#32
  | 35 => 0xBF7AA97F#32
  | 36 => 0xBF61E8AE#32
  | 37 => 0x3FBB3F16#32
  | 38 => 0xBF83D85C#32
  | 39 => 0x3FCAC515#32
  | 40 => 0xBE1A0B60#32
  | 41 => 0xBEACDBE6#32
  | 42 => 0xBF9BEB4A#32
  | 43 => 0xBF262AF4#32
  | 44 => 0x3F68A8EA#32
  | 45 => 0x3DEBDB98#32
  | 46 => 0x3FEE92A0#32
  | 47 => 0x3EEB9013#32
  | 48 => 0xBF25FC88#32
  | 49 => 0xBD311DC6#32
  | 50 => 0xBDA6FCD8#32
  | 51 => 0x3EED7F38#32
  | 52 => 0xBE9A1257#32
  | 53 => 0xBFA0CEF5#32
  | 54 => 0x3DB33C8B#32
  | 55 => 0x403FACF4#32
  | 56 => 0xBE58C2B6#32
  | 57 => 0x404918CE#32
  | 58 => 0x403D0ED5#32
  | 59 => 0x4002AFF2#32
  | 60 => 0x3F85A9B4#32
  | 61 => 0xBE8D4090#32
  | 62 => 0x3DF4EFC9#32
  | 63 => 0xBEF56C5C#32
  | 64 => 0x3E1A6D63#32
  | 65 => 0xBE0BD254#32
  | 66 => 0x3ECDDB1A#32
  | 67 => 0xBE53AFCE#32
  | 68 => 0x3F34DAFE#32
  | 69 => 0xBE5B1C28#32
  | 70 => 0xBE27E057#32
  | 71 => 0x400029CF#32
  | 72 => 0x3F98ECE4#32
  | 73 => 0x3F905EAC#32
  | 74 => 0xBE3BD937#32
  | 75 => 0x3F768C8E#32
  | 76 => 0xBEA4CF32#32
  | 77 => 0xBE47CACA#32
  | 78 => 0xBF7B6CA8#32
  | 79 => 0xBFC5B1BD#32
  | 80 => 0x400B2F42#32
  | 81 => 0x3FB6DFFD#32
  | 82 => 0x3EF2BEA2#32
  | 83 => 0xBF1A236C#32
  | 84 => 0x3FB6E66F#32
  | 85 => 0x3D7B584D#32
  | 86 => 0x401321EB#32
  | 87 => 0x3E72D4A2#32
  | 88 => 0x4022FBC8#32
  | 89 => 0x3F11C43A#32
  | 90 => 0x401EF67C#32
  | 91 => 0xBE10D6A8#32
  | 92 => 0x3F76B488#32
  | 93 => 0x3EBA4D07#32
  | 94 => 0x3FB330AD#32
  | 95 => 0x3ECF1A33#32
  | 96 => 0x3E3CB8EA#32
  | 97 => 0x3EA925FB#32
  | 98 => 0x3F7ECFB6#32
  | 99 => 0x3F46A59B#32
  | 100 => 0x3CB6C5FD#32
  | 101 => 0x3FF21485#32
  | 102 => 0x40006024#32
  | 103 => 0x3E3DE5C2#32
  | 104 => 0x3F7D5290#32
  | 105 => 0x402770D5#32
  | 106 => 0xBE022716#32
  | 107 => 0xBEF3C276#32
  | 108 => 0xBD7FE88C#32
  | 109 => 0x3EFB8E90#32
  | 110 => 0x3D2A0CE8#32
  | 111 => 0xBEEBF613#32
  | 112 => 0x3F9BFE5E#32
  | 113 => 0x3FE88D33#32
  | 114 => 0xBF095B9A#32
  | 115 => 0xBD83FB4A#32
  | 116 => 0xBED9FF94#32
  | 117 => 0x3FA3E3C4#32
  | 118 => 0xBEF12C9A#32
  | 119 => 0x3E9F73F2#32
  | 120 => 0x3CFE3242#32
  | 121 => 0x3F59EF77#32
  | 122 => 0x404D3032#32
  | 123 => 0x3F38EB82#32
  | 124 => 0x3E31D396#32
  | 125 => 0x3FCDB950#32
  | 126 => 0x3CFED8BA#32
  | 127 => 0x3FA8FF14#32
  | _ => 0#32

noncomputable abbrev lit0t0_370 (i : Nat) : BitVec 32 := match i % 128 with
  | 0 => 0x400E03B1#32
  | 1 => 0xBE9928FA#32
  | 2 => 0x3E8AA21E#32
  | 3 => 0x40738E2C#32
  | 4 => 0x3F52F1D7#32
  | 5 => 0x3E2C2CFE#32
  | 6 => 0x40881051#32
  | 7 => 0x402F6D81#32
  | 8 => 0xBCBC540C#32
  | 9 => 0x3E9EE0A5#32
  | 10 => 0x3F59E1F2#32
  | 11 => 0x3F928494#32
  | 12 => 0x3F8B270D#32
  | 13 => 0xBF3B01C9#32
  | 14 => 0x3FE89623#32
  | 15 => 0x3D4AF1F6#32
  | 16 => 0xBF94EB3C#32
  | 17 => 0xBDD8F6E3#32
  | 18 => 0xBEE211BE#32
  | 19 => 0x3F77B260#32
  | 20 => 0x3F1B1043#32
  | 21 => 0x3FF9D274#32
  | 22 => 0xBF19F222#32
  | 23 => 0x3F8504E0#32
  | 24 => 0xBF7D41EA#32
  | 25 => 0x3F21952B#32
  | 26 => 0x4097AE29#32
  | 27 => 0xBD4674DA#32
  | 28 => 0x3F9688C4#32
  | 29 => 0x3F9123B9#32
  | 30 => 0x3FC6711E#32
  | 31 => 0x402897AD#32
  | 32 => 0x3FF55D9B#32
  | 33 => 0x3FC0BFF9#32
  | 34 => 0x3FAE24A8#32
  | 35 => 0x3FD2ACA0#32
  | 36 => 0x3FAFA947#32
  | 37 => 0x3FD290AE#32
  | 38 => 0x3FE73F80#32
  | 39 => 0xBFCF4A74#32
  | 40 => 0x3FD9146E#32
  | 41 => 0x402EFD57#32
  | 42 => 0xBD8501CE#32
  | 43 => 0xBEF4AF8E#32
  | 44 => 0xBE4C25E2#32
  | 45 => 0xBE9C2297#32
  | 46 => 0x3DFA82B3#32
  | 47 => 0x3FD298A2#32
  | 48 => 0xBEE14485#32
  | 49 => 0xBDC38622#32
  | 50 => 0xBF3BEC08#32
  | 51 => 0xBF458FB4#32
  | 52 => 0xBDFE704A#32
  | 53 => 0x3FA03931#32
  | 54 => 0x40F67942#32
  | 55 => 0x3FCD7437#32
  | 56 => 0x40AB5666#32
  | 57 => 0x3FFD1714#32
  | 58 => 0x3FABEF61#32
  | 59 => 0xBEA26102#32
  | 60 => 0xBF7582E0#32
  | 61 => 0xBF54CF3C#32
  | 62 => 0x40871DD8#32
  | 63 => 0xBCC6E97F#32
  | 64 => 0x3F0992F3#32
  | 65 => 0x3F2A5409#32
  | 66 => 0x3F8DF1C6#32
  | 67 => 0xBE0C4B73#32
  | 68 => 0x40CDD6CC#32
  | 69 => 0x3F2E7832#32
  | 70 => 0x3F0F117C#32
  | 71 => 0x402E9475#32
  | 72 => 0x3DBC5EB7#32
  | 73 => 0x4010BEE1#32
  | 74 => 0x3DB8E5FF#32
  | 75 => 0x3DBD893E#32
  | 76 => 0x3D1F0D9D#32
  | 77 => 0xBFABF64B#32
  | 78 => 0xBEF83E5B#32
  | 79 => 0x3DC49F28#32
  | 80 => 0x4011F6FB#32
  | 81 => 0xBF8E1F17#32
  | 82 => 0xBE9D93FE#32
  | 83 => 0xBF7A1B38#32
  | 84 => 0x4057171C#32
  | 85 => 0x4069F457#32
  | 86 => 0xBEA9652A#32
  | 87 => 0x402EE922#32
  | 88 => 0x400AB5E7#32
  | 89 => 0xBDE9EB5A#32
  | 90 => 0x39AC0739#32
  | 91 => 0x3F9B911E#32
  | 92 => 0x3FC8ECAF#32
  | 93 => 0x3F3E403D#32
  | 94 => 0xBECAD225#32
  | 95 => 0x3E7F9FB2#32
  | 96 => 0x3F4D8456#32
  | 97 => 0xBE64A104#32
  | 98 => 0xBF0E6BC5#32
  | 99 => 0xBFBA1EDE#32
  | 100 => 0xBE864D20#32
  | 101 => 0x400CFA94#32
  | 102 => 0xBF940022#32
  | 103 => 0x3E69F831#32
  | 104 => 0xBFA41F7C#32
  | 105 => 0x3FABC618#32
  | 106 => 0x3E90DCDE#32
  | 107 => 0x3FD8E8AD#32
  | 108 => 0x3EE73C8E#32
  | 109 => 0x3F76D804#32
  | 110 => 0x3F35A527#32
  | 111 => 0x3F157C16#32
  | 112 => 0x404B027E#32
  | 113 => 0xBEAE2904#32
  | 114 => 0x408A09BA#32
  | 115 => 0xBF6781EC#32
  | 116 => 0x400C898D#32
  | 117 => 0xBC2A5D76#32
  | 118 => 0x4047114C#32
  | 119 => 0x3F1D58D5#32
  | 120 => 0x3F670007#32
  | 121 => 0x3E22626A#32
  | 122 => 0x4043E9F3#32
  | 123 => 0x40144325#32
  | 124 => 0x3FA7DF5B#32
  | 125 => 0x3FA9C6CE#32
  | 126 => 0x3F573222#32
  | 127 => 0xBE06B417#32
  | _ => 0#32

noncomputable abbrev lit0t0_371 (i : Nat) : BitVec 32 := match i % 128 with
  | 0 => 0x4028BB80#32
  | 1 => 0x3EEE9F16#32
  | 2 => 0xBF1064A4#32
  | 3 => 0x401D4886#32
  | 4 => 0xBF85081E#32
  | 5 => 0x40AA7AE0#32
  | 6 => 0x3F379344#32
  | 7 => 0xBFD7BA04#32
  | 8 => 0x406F701C#32
  | 9 => 0x401AA6E2#32
  | 10 => 0x4001FE95#32
  | 11 => 0x3C27B4BB#32
  | 12 => 0x3E732748#32
  | 13 => 0xBEFE63C2#32
  | 14 => 0x3F831766#32
  | 15 => 0x3FE7A383#32
  | 16 => 0x3E2788C5#32
  | 17 => 0x3EF318D6#32
  | 18 => 0xBF01B3A6#32
  | 19 => 0xBE1BA8ED#32
  | 20 => 0x40393FA7#32
  | 21 => 0xBEBCFE4E#32
  | 22 => 0x3F8E5DED#32
  | 23 => 0xBE4CAC3B#32
  | 24 => 0x3B13D6A7#32
  | 25 => 0x401E17BA#32
  | 26 => 0x3F850BFD#32
  | 27 => 0x3E650049#32
  | 28 => 0x3EA299D1#32
  | 29 => 0x40510F00#32
  | 30 => 0xBF468605#32
  | 31 => 0x3F400C26#32
  | 32 => 0xBF84A3B2#32
  | 33 => 0xBF9D1DC7#32
  | 34 => 0xBE244840#32
  | 35 => 0x3E0974AA#32
  | 36 => 0x4029FF68#32
  | 37 => 0xBF1395D0#32
  | 38 => 0x4024FD30#32
  | 39 => 0x3F0F4F29#32
  | 40 => 0x404376D4#32
  | 41 => 0x3F949902#32
  | 42 => 0x3F48D37C#32
  | 43 => 0x4021FE5A#32
  | 44 => 0xBF0CEB4C#32
  | 45 => 0x3FD12059#32
  | 46 => 0x3FC8868F#32
  | 47 => 0x4089CB7A#32
  | 48 => 0x40105DEE#32
  | 49 => 0x3FD1E7D9#32
  | 50 => 0x3FEBEF50#32
  | 51 => 0xBF2693E1#32
  | 52 => 0x401C3F6B#32
  | 53 => 0xBF45484C#32
  | 54 => 0x3D820F6B#32
  | 55 => 0x3FD530BE#32
  | 56 => 0xBEB9E1CA#32
  | 57 => 0x3E749295#32
  | 58 => 0xBDAA77F2#32
  | 59 => 0x3EF39D76#32
  | 60 => 0x3F731A4B#32
  | 61 => 0xBF66E2A7#32
  | 62 => 0x3FE16B2C#32
  | 63 => 0x3F110904#32
  | 64 => 0xBE57FE86#32
  | 65 => 0xBF9A3D6E#32
  | 66 => 0x3F0B748B#32
  | 67 => 0x3FB29812#32
  | 68 => 0xBED60B1F#32
  | 69 => 0xBE53DDC6#32
  | 70 => 0x3F440C8E#32
  | 71 => 0xBF9BE5B8#32
  | 72 => 0x401A81E7#32
  | 73 => 0xBE372807#32
  | 74 => 0x3F4597D3#32
  | 75 => 0x3F13B5AE#32
  | 76 => 0x4043EC2E#32
  | 77 => 0x3F3BEF20#32
  | 78 => 0x3FBB8AD5#32
  | 79 => 0x3F8B21CF#32
  | 80 => 0xBD9CFCB2#32
  | 81 => 0x3E46B481#32
  | 82 => 0x40952312#32
  | 83 => 0x401F0512#32
  | 84 => 0xBC0B5E53#32
  | 85 => 0xBE1AD618#32
  | 86 => 0x4018904C#32
  | 87 => 0xBE28394A#32
  | 88 => 0x40111160#32
  | 89 => 0xBF95B084#32
  | 90 => 0x3EFEC6D8#32
  | 91 => 0xBED11795#32
  | 92 => 0x4008D047#32
  | 93 => 0xBF407182#32
  | 94 => 0x3D8FEE76#32
  | 95 => 0x3F309FB7#32
  | 96 => 0x3F18D7A4#32
  | 97 => 0x4053D72E#32
  | 98 => 0x3DFC3422#32
  | 99 => 0xBE790EFA#32
  | 100 => 0x40260A97#32
  | 101 => 0x3F9C4C2A#32
  | 102 => 0x3F318D0B#32
  | 103 => 0xBE820999#32
  | 104 => 0x4065683C#32
  | 105 => 0x3F7D2AB3#32
  | 106 => 0x3F840F94#32
  | 107 => 0xBF6D7213#32
  | 108 => 0xBEA243C3#32
  | 109 => 0x3F266041#32
  | 110 => 0x3FCE7710#32
  | 111 => 0xBF41E525#32
  | 112 => 0x403742EC#32
  | 113 => 0x405CD74A#32
  | 114 => 0x3D992D02#32
  | 115 => 0x3F15E190#32
  | 116 => 0x3F5902AF#32
  | 117 => 0x3F878D2E#32
  | 118 => 0x400D91F6#32
  | 119 => 0xBD50B3EF#32
  | 120 => 0xBFED1E85#32
  | 121 => 0x3FDECD40#32
  | 122 => 0xBF1314C7#32
  | 123 => 0xBFD17A16#32
  | 124 => 0xBDD8A17C#32
  | 125 => 0x3E43DFB5#32
  | 126 => 0x3FBF15D7#32
  | 127 => 0x3F9278E3#32
  | _ => 0#32

noncomputable abbrev lit0t0_372 (i : Nat) : BitVec 32 := match i % 128 with
  | 0 => 0x3F1D19C2#32
  | 1 => 0xBF688FF0#32
  | 2 => 0x3D8211C8#32
  | 3 => 0xBEE600F4#32
  | 4 => 0x405ADBDA#32
  | 5 => 0xBF050A5A#32
  | 6 => 0x400EA96D#32
  | 7 => 0x3FA96842#32
  | 8 => 0x3F37B113#32
  | 9 => 0x3E4018A5#32
  | 10 => 0x3DC12D53#32
  | 11 => 0xBDC6A614#32
  | 12 => 0xBF69179C#32
  | 13 => 0x3F1515AC#32
  | 14 => 0xBE12FBDC#32
  | 15 => 0x3F8BFE37#32
  | 16 => 0xBD6C2E37#32
  | 17 => 0x3DCD7932#32
  | 18 => 0x3EF15FCA#32
  | 19 => 0x3E9B5D6C#32
  | 20 => 0x3F2E5F34#32
  | 21 => 0x40486BF8#32
  | 22 => 0xBFA797C6#32
  | 23 => 0xBE7B8B6E#32
  | 24 => 0x40172633#32
  | 25 => 0x400423E3#32
  | 26 => 0xBF0EEDF2#32
  | 27 => 0x3E2265ED#32
  | 28 => 0x3F9A3091#32
  | 29 => 0xBD3218C6#32
  | 30 => 0x3F878963#32
  | 31 => 0x3F69EE5E#32
  | 32 => 0x3F22B361#32
  | 33 => 0x3F0DFAF2#32
  | 34 => 0x3F3B2F52#32
  | 35 => 0x3F807E3D#32
  | 36 => 0x40178C9B#32
  | 37 => 0x3F03A94E#32
  | 38 => 0x3EDB2F3E#32
  | 39 => 0x3D99E3A3#32
  | 40 => 0xBF13D339#32
  | 41 => 0xBF38A989#32
  | 42 => 0xBDCF9BE7#32
  | 43 => 0x3E82E0B8#32
  | 44 => 0x3F154AFD#32
  | 45 => 0x3ED62A1B#32
  | 46 => 0x3FE7B96A#32
  | 47 => 0x404AFECD#32
  | 48 => 0x3FD6F067#32
  | 49 => 0x3FBEC59D#32
  | 50 => 0x3FA55068#32
  | 51 => 0x3F97C81C#32
  | 52 => 0x3FC62518#32
  | 53 => 0x3F0D104F#32
  | 54 => 0x3DD2269C#32
  | 55 => 0x3E704B5A#32
  | 56 => 0xBF77E1B1#32
  | 57 => 0x3DC9A8F3#32
  | 58 => 0x3F635D3D#32
  | 59 => 0x3F508B50#32
  | 60 => 0xBE967A9A#32
  | 61 => 0xBF4E74A3#32
  | 62 => 0x3FA176BC#32
  | 63 => 0xBF44DDBC#32
  | 64 => 0xBF69F26C#32
  | 65 => 0x3EA1FF4B#32
  | 66 => 0xBE5947DE#32
  | 67 => 0xBF2A948E#32
  | 68 => 0x3FE7CF3D#32
  | 69 => 0xBEC2421A#32
  | 70 => 0x3FA786B3#32
  | 71 => 0xBE9C1A0A#32
  | 72 => 0x3F46B952#32
  | 73 => 0x400098CE#32
  | 74 => 0x4012EFE6#32
  | 75 => 0x3F06076C#32
  | 76 => 0xBEE4AA0E#32
  | 77 => 0x3FE5C9E9#32
  | 78 => 0xBEE2CB61#32
  | 79 => 0xBE8CE58F#32
  | 80 => 0x3EB84A58#32
  | 81 => 0xBF500830#32
  | 82 => 0x3F7A1736#32
  | 83 => 0x4045982C#32
  | 84 => 0xBFA8E829#32
  | 85 => 0x400C8714#32
  | 86 => 0xBF38C7CA#32
  | 87 => 0xBE0D4715#32
  | 88 => 0x3EA69B2C#32
  | 89 => 0x3D9188BC#32
  | 90 => 0xBF975F3E#32
  | 91 => 0x3FDA10E9#32
  | 92 => 0x3F7A98A0#32
  | 93 => 0xBCBDBF90#32
  | 94 => 0x3FB1F1EF#32
  | 95 => 0xBF395573#32
  | 96 => 0x3F83AFDA#32
  | 97 => 0x3E6FCD72#32
  | 98 => 0x40385D52#32
  | 99 => 0x3F6324AA#32
  | 100 => 0x400DAFE2#32
  | 101 => 0x3F4E6663#32
  | 102 => 0x3F1A0834#32
  | 103 => 0x404480FF#32
  | 104 => 0xBF2F0A56#32
  | 105 => 0x3EA44DE2#32
  | 106 => 0x402D7292#32
  | 107 => 0x3EC8927D#32
  | 108 => 0x3F0CEF1E#32
  | 109 => 0x3F4F8E14#32
  | 110 => 0x3F5AE6A2#32
  | 111 => 0xBD9EF441#32
  | 112 => 0xBF6CC710#32
  | 113 => 0xBEE3F320#32
  | 114 => 0x40488B20#32
  | 115 => 0x3E22D584#32
  | 116 => 0xBF5C28D8#32
  | 117 => 0xBBEF47CD#32
  | 118 => 0x3ED97AD5#32
  | 119 => 0xBF97070A#32
  | 120 => 0x3FC03669#32
  | 121 => 0xBF40F87E#32
  | 122 => 0x3F89513C#32
  | 123 => 0x3FBEF10E#32
  | 124 => 0xBE90CA91#32
  | 125 => 0xBF1D0EF5#32
  | 126 => 0x3F18F4DC#32
  | 127 => 0x3FAEAFF0#32
  | _ => 0#32

noncomputable abbrev lit0t0_373 (i : Nat) : BitVec 32 := match i % 128 with
  | 0 => 0xBDBA6709#32
  | 1 => 0xBF391F47#32
  | 2 => 0x401ADD18#32
  | 3 => 0xBF214884#32
  | 4 => 0x3D9F7531#32
  | 5 => 0xBF235DFC#32
  | 6 => 0xBF857E82#32
  | 7 => 0xBF7F015A#32
  | 8 => 0xBF64B0EA#32
  | 9 => 0x3FDA26ED#32
  | 10 => 0x3FF7ED24#32
  | 11 => 0x3EC35F76#32
  | 12 => 0x3F2C11CA#32
  | 13 => 0x4021395A#32
  | 14 => 0x40B2C8B6#32
  | 15 => 0xBF2039EC#32
  | 16 => 0x3E444F8B#32
  | 17 => 0x402C1CC4#32
  | 18 => 0xBF489723#32
  | 19 => 0xBF7AAAE3#32
  | 20 => 0x3F9C3B36#32
  | 21 => 0xBED84F7D#32
  | 22 => 0x407DEBF2#32
  | 23 => 0xBE560183#32
  | 24 => 0xBFB32B0F#32
  | 25 => 0x3EF0D340#32
  | 26 => 0xBE1108B4#32
  | 27 => 0xBF3C2EC9#32
  | 28 => 0x3FD6B761#32
  | 29 => 0xBFA59670#32
  | 30 => 0xBEB8ADAB#32
  | 31 => 0xBF06E4A0#32
  | 32 => 0x40035A1F#32
  | 33 => 0x3EEB89E3#32
  | 34 => 0xBE2FDE11#32
  | 35 => 0x3EF19646#32
  | 36 => 0xBF91744E#32
  | 37 => 0x3FD91E00#32
  | 38 => 0x3EBAEE3C#32
  | 39 => 0xBDC257D3#32
  | 40 => 0x3DE2F267#32
  | 41 => 0xBF7CFC5A#32
  | 42 => 0xBF09B889#32
  | 43 => 0xBDC993ED#32
  | 44 => 0xBEF7E438#32
  | 45 => 0x3FF81DF0#32
  | 46 => 0x3F758718#32
  | 47 => 0xBFACF31C#32
  | 48 => 0x400D870F#32
  | 49 => 0xBF3BFFEA#32
  | 50 => 0x3E593F15#32
  | 51 => 0x3F373713#32
  | 52 => 0x4070755B#32
  | 53 => 0x3FA81BE9#32
  | 54 => 0xBEF27802#32
  | 55 => 0x3F8360EB#32
  | 56 => 0x401FD768#32
  | 57 => 0xBF8F33CF#32
  | 58 => 0x3E57C838#32
  | 59 => 0xBEE469FB#32
  | 60 => 0xBD64F77D#32
  | 61 => 0xBF1969F4#32
  | 62 => 0x3F76D6F6#32
  | 63 => 0xBF85C2E5#32
  | 64 => 0x3F42957E#32
  | 65 => 0x3FB58231#32
  | 66 => 0xBEC7E9F7#32
  | 67 => 0xBF8BCE6C#32
  | 68 => 0xBF2A96AB#32
  | 69 => 0x3F1E3F91#32
  | 70 => 0x3F9578A7#32
  | 71 => 0x3F0DA58C#32
  | 72 => 0xBEFACBAF#32
  | 73 => 0x4027F7EA#32
  | 74 => 0x3F6E9DD0#32
  | 75 => 0xBD883CCD#32
  | 76 => 0x3F000B6E#32
  | 77 => 0xBED6571B#32
  | 78 => 0x3F8FFEB1#32
  | 79 => 0x3EE0760A#32
  | 80 => 0xBF4139B3#32
  | 81 => 0x3F54C7C3#32
  | 82 => 0x40A9E910#32
  | 83 => 0xBDFD3919#32
  | 84 => 0x3DFDA83E#32
  | 85 => 0x3D8DEEB7#32
  | 86 => 0x3EB80B38#32
  | 87 => 0xBEBCA3B0#32
  | 88 => 0xBDA942DD#32
  | 89 => 0xBF98011E#32
  | 90 => 0xBF2999F5#32
  | 91 => 0x403BDB06#32
  | 92 => 0xBEDF36B2#32
  | 93 => 0xBE948EC3#32
  | 94 => 0x3FC8FE8E#32
  | 95 => 0x3F8318ED#32
  | 96 => 0x3FB348EC#32
  | 97 => 0xBF1D5A24#32
  | 98 => 0x3E3B2849#32
  | 99 => 0xBE9AFDE5#32
  | 100 => 0x3E3E465B#32
  | 101 => 0x3FC4B6E3#32
  | 102 => 0x402372FF#32
  | 103 => 0xBDE4B55C#32
  | 104 => 0xBF335EDB#32
  | 105 => 0x3E1FD742#32
  | 106 => 0x3EB42C10#32
  | 107 => 0x3F054BE1#32
  | 108 => 0x3F0E9B8A#32
  | 109 => 0x400D07BB#32
  | 110 => 0x400882C9#32
  | 111 => 0xBF1E12A7#32
  | 112 => 0x3F887171#32
  | 113 => 0xBFC61669#32
  | 114 => 0x3EB6566F#32
  | 115 => 0xBE93571E#32
  | 116 => 0xBEE2A8E8#32
  | 117 => 0xBF2BC4B9#32
  | 118 => 0x3E46DC32#32
  | 119 => 0x3F29B42C#32
  | 120 => 0x4011968E#32
  | 121 => 0xBFAD1AC5#32
  | 122 => 0xBD996B59#32
  | 123 => 0xBFB48401#32
  | 124 => 0x3F9B32A8#32
  | 125 => 0x3EF6CF30#32
  | 126 => 0x3F23B94A#32
  | 127 => 0x3F533D34#32
  | _ => 0#32

noncomputable abbrev lit0t0_374 (i : Nat) : BitVec 32 := match i % 128 with
  | 0 => 0xBFB3DA24#32
  | 1 => 0x3E95D0C2#32
  | 2 => 0xBF84BC6B#32
  | 3 => 0x3F1F3569#32
  | 4 => 0xBF892EA7#32
  | 5 => 0x3F634384#32
  | 6 => 0xBD9146AE#32
  | 7 => 0xBEDED18A#32
  | 8 => 0x3F1D9285#32
  | 9 => 0x4042AF21#32
  | 10 => 0x3FC74AAC#32
  | 11 => 0x3EF0060C#32
  | 12 => 0xBEEED1BF#32
  | 13 => 0x3E87C963#32
  | 14 => 0x3F7E65AF#32
  | 15 => 0x400E68C0#32
  | 16 => 0xBE709D2D#32
  | 17 => 0x3FB1E5D7#32
  | 18 => 0x3EC047ED#32
  | 19 => 0xBEE488B4#32
  | 20 => 0x40301114#32
  | 21 => 0x3F028234#32
  | 22 => 0xBECB62EE#32
  | 23 => 0xBE477E92#32
  | 24 => 0x3E827EDA#32
  | 25 => 0x3FC27D69#32
  | 26 => 0x3D56D21E#32
  | 27 => 0x3F80B316#32
  | 28 => 0xBEA58954#32
  | 29 => 0x3F6A1555#32
  | 30 => 0xBEFF3B00#32
  | 31 => 0x3ED1B34B#32
  | 32 => 0x3E7E3132#32
  | 33 => 0x3F9CF5D2#32
  | 34 => 0x3F629421#32
  | 35 => 0x3F58799E#32
  | 36 => 0xBF40D20E#32
  | 37 => 0x3FDC8A69#32
  | 38 => 0x3E4A20C5#32
  | 39 => 0x3EDA11D0#32
  | 40 => 0x3F16C0A9#32
  | 41 => 0xBEA0F091#32
  | 42 => 0xBF875B97#32
  | 43 => 0x40A35919#32
  | 44 => 0x3E09FB5D#32
  | 45 => 0x3EA0F9AE#32
  | 46 => 0xBF434FA5#32
  | 47 => 0xBF5836D6#32
  | 48 => 0x404D6FD2#32
  | 49 => 0x3CAAF3B9#32
  | 50 => 0x3F1FAEA4#32
  | 51 => 0x40CBBC6D#32
  | 52 => 0x3FE6C301#32
  | 53 => 0xBE6A08DC#32
  | 54 => 0xBBA18DE1#32
  | 55 => 0x3FAD4390#32
  | 56 => 0x4097F495#32
  | 57 => 0x3EDE95B9#32
  | 58 => 0x3FF150E9#32
  | 59 => 0x3F6EE6F0#32
  | 60 => 0x3C91A84C#32
  | 61 => 0x3F8E879A#32
  | 62 => 0xBF9EBCC3#32
  | 63 => 0x3F8ABBC5#32
  | 64 => 0x3E3C9C57#32
  | 65 => 0xBF050483#32
  | 66 => 0x3D91D11D#32
  | 67 => 0x3FEA3B8A#32
  | 68 => 0x3F47235A#32
  | 69 => 0xBE266CF8#32
  | 70 => 0x3FB6CA7E#32
  | 71 => 0xBF6AD49F#32
  | 72 => 0x3D869F6A#32
  | 73 => 0x3DB9CC43#32
  | 74 => 0xBF510464#32
  | 75 => 0x402D7169#32
  | 76 => 0xBF5D4FE9#32
  | 77 => 0x3FC0FFF8#32
  | 78 => 0x3F46CD80#32
  | 79 => 0x3F11988B#32
  | 80 => 0xBED6606B#32
  | 81 => 0x3F21B125#32
  | 82 => 0x3FF069BC#32
  | 83 => 0xBE7DD75F#32
  | 84 => 0x3F05D6F3#32
  | 85 => 0x3FAC834B#32
  | 86 => 0x3F436064#32
  | 87 => 0x400A74A6#32
  | 88 => 0x40044D88#32
  | 89 => 0xBF899FBE#32
  | 90 => 0xBE9EBA04#32
  | 91 => 0x3E6D6566#32
  | 92 => 0xBE60B1D0#32
  | 93 => 0x402CE43A#32
  | 94 => 0xBE6B0A68#32
  | 95 => 0x400C7918#32
  | 96 => 0x4011518C#32
  | 97 => 0x3FDA7434#32
  | 98 => 0xBF124AEA#32
  | 99 => 0x3F40B890#32
  | 100 => 0x3FEA9559#32
  | 101 => 0x3F84348C#32
  | 102 => 0xBDB6F504#32
  | 103 => 0xBEC75AAC#32
  | 104 => 0xBE5DD21A#32
  | 105 => 0xBD024C67#32
  | 106 => 0x4017CC49#32
  | 107 => 0x3F330E06#32
  | 108 => 0x408969A2#32
  | 109 => 0x403F2466#32
  | 110 => 0x3FBDF0E6#32
  | 111 => 0x3E876EFE#32
  | 112 => 0xBD4CB07C#32
  | 113 => 0xBED828C8#32
  | 114 => 0xBE8C6181#32
  | 115 => 0x4060F0CA#32
  | 116 => 0x402B68A1#32
  | 117 => 0xBF99800F#32
  | 118 => 0x3F396503#32
  | 119 => 0xBF9A33A8#32
  | 120 => 0xBE55E7C6#32
  | 121 => 0xBF2BAD00#32
  | 122 => 0x3EAF50FB#32
  | 123 => 0xBD7573BD#32
  | 124 => 0x3E4AA978#32
  | 125 => 0x3E1D62BC#32
  | 126 => 0xBE94D36C#32
  | 127 => 0x40115314#32
  | _ => 0#32

noncomputable abbrev lit0t0_375 (i : Nat) : BitVec 32 := match i % 128 with
  | 0 => 0x3F005AAC#32
  | 1 => 0xBECDD0F8#32
  | 2 => 0x3F85CEE1#32
  | 3 => 0x3FAC07DE#32
  | 4 => 0x3F2BBC95#32
  | 5 => 0x3F1DE13E#32
  | 6 => 0xBD3C7DFC#32
  | 7 => 0x403B73AF#32
  | 8 => 0x405EE798#32
  | 9 => 0x3F690C5E#32
  | 10 => 0x3EAF4145#32
  | 11 => 0x3FC6AAA7#32
  | 12 => 0x3E20AD3D#32
  | 13 => 0x3EC55777#32
  | 14 => 0xBECCD2AE#32
  | 15 => 0x3FABC4EC#32
  | 16 => 0xBE700395#32
  | 17 => 0xBF1B1285#32
  | 18 => 0x3F36C437#32
  | 19 => 0x3F812B52#32
  | 20 => 0x3EC43D29#32
  | 21 => 0x3FDCB5C7#32
  | 22 => 0x3D429DB4#32
  | 23 => 0xBF61707F#32
  | 24 => 0x3FA676AB#32
  | 25 => 0x3F756FE4#32
  | 26 => 0xBFD886D0#32
  | 27 => 0xBE544E70#32
  | 28 => 0x3FB6C27B#32
  | 29 => 0x3F1E5C78#32
  | 30 => 0x401D65F7#32
  | 31 => 0x3FC32F42#32
  | 32 => 0x3E50E2EE#32
  | 33 => 0x3FC0B9E8#32
  | 34 => 0x3F2356B0#32
  | 35 => 0x408DD851#32
  | 36 => 0x4015B95D#32
  | 37 => 0x3F1F5A75#32
  | 38 => 0xBDF8CF59#32
  | 39 => 0x3F7E3CCD#32
  | 40 => 0x3EC9D05E#32
  | 41 => 0xBD6E14D7#32
  | 42 => 0xBF876242#32
  | 43 => 0x3F9EBAE5#32
  | 44 => 0xBDCC921E#32
  | 45 => 0xBF8FEBB0#32
  | 46 => 0xBFAA3C42#32
  | 47 => 0xBF6B13ED#32
  | 48 => 0x3F6B65F9#32
  | 49 => 0x3F98E16C#32
  | 50 => 0x3EC28C34#32
  | 51 => 0x3DB5A8C2#32
  | 52 => 0x3E7E2F03#32
  | 53 => 0xBF840C7B#32
  | 54 => 0xBF1F87AB#32
  | 55 => 0xBDE0F5B2#32
  | 56 => 0xBF383D80#32
  | 57 => 0x401F92EF#32
  | 58 => 0x3FAB776D#32
  | 59 => 0x3E353D89#32
  | 60 => 0xBD840D55#32
  | 61 => 0x3F7416BA#32
  | 62 => 0x3FA982B0#32
  | 63 => 0xBF0748E4#32
  | 64 => 0x3F5F4494#32
  | 65 => 0xBF903560#32
  | 66 => 0x401863F0#32
  | 67 => 0x400695DD#32
  | 68 => 0x3E89713E#32
  | 69 => 0x3F54DAFB#32
  | 70 => 0xBDCEB552#32
  | 71 => 0xBF4E348F#32
  | 72 => 0x400B6D0F#32
  | 73 => 0x3F833D4C#32
  | 74 => 0x40090EA9#32
  | 75 => 0x3F8A0274#32
  | 76 => 0x3D8D3A05#32
  | 77 => 0x3F9E03B7#32
  | 78 => 0x3EC47BE2#32
  | 79 => 0x3FAFDF7F#32
  | 80 => 0x3F8852EA#32
  | 81 => 0x400D66B4#32
  | 82 => 0x3DD2181A#32
  | 83 => 0x3F6F36E3#32
  | 84 => 0xBF2256D0#32
  | 85 => 0x400F89E8#32
  | 86 => 0x3EFC828F#32
  | 87 => 0x3FB59C02#32
  | 88 => 0xBF0583BF#32
  | 89 => 0x3F3AF12C#32
  | 90 => 0x3EB8F136#32
  | 91 => 0x3D70E5E5#32
  | 92 => 0x3F92CDBC#32
  | 93 => 0x3F3944B8#32
  | 94 => 0xBFA1E54E#32
  | 95 => 0x406C0B59#32
  | 96 => 0x3EE5850A#32
  | 97 => 0x3F10E04D#32
  | 98 => 0x3F0F6EB5#32
  | 99 => 0x3C80190F#32
  | 100 => 0xBE93E49D#32
  | 101 => 0x4010A8B1#32
  | 102 => 0x3FE0D502#32
  | 103 => 0x3F3E5E6C#32
  | 104 => 0xBDFA7951#32
  | 105 => 0x40552935#32
  | 106 => 0x3FA06909#32
  | 107 => 0x3E2D5137#32
  | 108 => 0xBF886176#32
  | 109 => 0x3F8ACF80#32
  | 110 => 0xBE382989#32
  | 111 => 0x3EB939EA#32
  | 112 => 0xBF58DA1C#32
  | 113 => 0x3F58961C#32
  | 114 => 0xBDB3E923#32
  | 115 => 0x402DD032#32
  | 116 => 0xBF07A342#32
  | 117 => 0xBE8E4739#32
  | 118 => 0x3DDAA4D6#32
  | 119 => 0xBE098968#32
  | 120 => 0x3FBF9780#32
  | 121 => 0x3F8B37D5#32
  | 122 => 0x3F951E90#32
  | 123 => 0x3F6D726A#32
  | 124 => 0x3E814B3F#32
  | 125 => 0x3FC79DA1#32
  | 126 => 0x401E9F75#32
  | 127 => 0x3E9D204B#32
  | _ => 0#32

noncomputable abbrev lit0t0_376 (i : Nat) : BitVec 32 := match i % 128 with
  | 0 => 0xBF0FE2C0#32
  | 1 => 0x3F5F2031#32
  | 2 => 0x4003FEB6#32
  | 3 => 0x3F0CF5B4#32
  | 4 => 0xBF6F2734#32
  | 5 => 0x3F51B258#32
  | 6 => 0x4095FA32#32
  | 7 => 0x3F14623E#32
  | 8 => 0xBF24BBF5#32
  | 9 => 0x3F13212D#32
  | 10 => 0x3E8DF1B0#32
  | 11 => 0xBEAA6B44#32
  | 12 => 0xBE925624#32
  | 13 => 0x3F985C8D#32
  | 14 => 0x408E5493#32
  | 15 => 0xBEFD911C#32
  | 16 => 0x3FBDA7DF#32
  | 17 => 0x401DF231#32
  | 18 => 0x3FF4F5C5#32
  | 19 => 0xBF2151E7#32
  | 20 => 0x4045961D#32
  | 21 => 0xBEE3D656#32
  | 22 => 0xBFBB816F#32
  | 23 => 0xBEC29A8C#32
  | 24 => 0xBE8B5FED#32
  | 25 => 0xBE7356CF#32
  | 26 => 0x3DAD1C8C#32
  | 27 => 0xBDC6B394#32
  | 28 => 0x3EA6845C#32
  | 29 => 0x3E0E523D#32
  | 30 => 0x3ECBFF12#32
  | 31 => 0xBFB3852E#32
  | 32 => 0xBF52301E#32
  | 33 => 0xBE0A7526#32
  | 34 => 0x3F25D33D#32
  | 35 => 0x3E16A89C#32
  | 36 => 0xBFB66C7F#32
  | 37 => 0xBF734B2A#32
  | 38 => 0x3F8674F1#32
  | 39 => 0x3E58272F#32
  | 40 => 0x3FC3F1EE#32
  | 41 => 0xBFAEF0CF#32
  | 42 => 0x3FBB097D#32
  | 43 => 0xBF436DE9#32
  | 44 => 0xBE94125F#32
  | 45 => 0xBE54305E#32
  | 46 => 0x3F7EADE2#32
  | 47 => 0x402A0749#32
  | 48 => 0x3F68BD58#32
  | 49 => 0x3FBB1E1E#32
  | 50 => 0x3F9F0B25#32
  | 51 => 0x3EDF9536#32
  | 52 => 0x4010BFC0#32
  | 53 => 0x3EF69DBE#32
  | 54 => 0xBEB4CC99#32
  | 55 => 0x3D6A50CD#32
  | 56 => 0xBC026C42#32
  | 57 => 0xBDF2ED62#32
  | 58 => 0x3F408B54#32
  | 59 => 0xBE8B5E27#32
  | 60 => 0xBE8677C8#32
  | 61 => 0x3EB5E1BB#32
  | 62 => 0x400F04B7#32
  | 63 => 0x3DCFB86C#32
  | 64 => 0x3F0F4E9A#32
  | 65 => 0x3FC673A4#32
  | 66 => 0x400AA6EE#32
  | 67 => 0x402F26C2#32
  | 68 => 0x3FDAB67C#32
  | 69 => 0xBEDFAFD3#32
  | 70 => 0xBDB49226#32
  | 71 => 0xBF95F0E9#32
  | 72 => 0x4025C101#32
  | 73 => 0x3F0992CD#32
  | 74 => 0xBE04EF62#32
  | 75 => 0x3C6270C0#32
  | 76 => 0x3F852DE2#32
  | 77 => 0x3F09FC7D#32
  | 78 => 0x3EE773A2#32
  | 79 => 0x3FEB746A#32
  | 80 => 0x3ED8CADF#32
  | 81 => 0x3F535940#32
  | 82 => 0x4002BB57#32
  | 83 => 0x3F9F246B#32
  | 84 => 0x3F9520CB#32
  | 85 => 0x3CF9B955#32
  | 86 => 0xBE7FCD35#32
  | 87 => 0x3FE61198#32
  | 88 => 0xBE22D93A#32
  | 89 => 0xBF0E7B9B#32
  | 90 => 0x400A5D5E#32
  | 91 => 0x3FA6E4FF#32
  | 92 => 0xBF3B3D86#32
  | 93 => 0xBE9CEB87#32
  | 94 => 0x3F01CE1B#32
  | 95 => 0x3F74B6B5#32
  | 96 => 0x4005EB47#32
  | 97 => 0x3F275C55#32
  | 98 => 0x3FBBB16D#32
  | 99 => 0xBD9DF622#32
  | 100 => 0x3F145C86#32
  | 101 => 0xBEA16AE0#32
  | 102 => 0x3F8455D9#32
  | 103 => 0xBEADAB11#32
  | 104 => 0x3FBD91AD#32
  | 105 => 0x40295565#32
  | 106 => 0x401D2A44#32
  | 107 => 0xBFA69C48#32
  | 108 => 0x3FBAAA7A#32
  | 109 => 0xBF36FB9F#32
  | 110 => 0xBF2D98EC#32
  | 111 => 0x3E1DC152#32
  | 112 => 0x3FAD25AD#32
  | 113 => 0xBEA4772C#32
  | 114 => 0xBD1DEF67#32
  | 115 => 0x3E300F09#32
  | 116 => 0x3F6A4B38#32
  | 117 => 0x407167DF#32
  | 118 => 0x40A1FAB1#32
  | 119 => 0xBFC0E34C#32
  | 120 => 0xBDE7D42C#32
  | 121 => 0x3F333331#32
  | 122 => 0x3F1B3E0F#32
  | 123 => 0x3FE6EB76#32
  | 124 => 0x3FF94EE7#32
  | 125 => 0xBE06CE64#32
  | 126 => 0x3F9A7567#32
  | 127 => 0x3E709D9C#32
  | _ => 0#32

noncomputable abbrev lit0t0_377 (i : Nat) : BitVec 32 := match i % 128 with
  | 0 => 0xBD2E8E09#32
  | 1 => 0xBF92B458#32
  | 2 => 0xBE43EF97#32
  | 3 => 0x3F8F99FC#32
  | 4 => 0x4009EC04#32
  | 5 => 0x3FA8B1E3#32
  | 6 => 0xBBBE9FC8#32
  | 7 => 0x4062FCC5#32
  | 8 => 0x3FE72946#32
  | 9 => 0x4076740C#32
  | 10 => 0x3FB119C1#32
  | 11 => 0x3FDB74BC#32
  | 12 => 0x3F9B9F03#32
  | 13 => 0x3F4CD54D#32
  | 14 => 0x3FC08AD4#32
  | 15 => 0xBF3991B3#32
  | 16 => 0x3FABD1AA#32
  | 17 => 0xBE963CCE#32
  | 18 => 0x3FA62952#32
  | 19 => 0xBF6193BF#32
  | 20 => 0x404B5C2D#32
  | 21 => 0x3F3558C8#32
  | 22 => 0xBF06958B#32
  | 23 => 0xBF0D987E#32
  | 24 => 0x3F6C1DD1#32
  | 25 => 0x3DF6FAC0#32
  | 26 => 0xBE39DF4F#32
  | 27 => 0x4027BFFF#32
  | 28 => 0xBD1D3892#32
  | 29 => 0xBD5993D4#32
  | 30 => 0xBF4DEB69#32
  | 31 => 0xBF034A9F#32
  | 32 => 0x3DE6ECE8#32
  | 33 => 0x3F3F26D0#32
  | 34 => 0x4010DE7D#32
  | 35 => 0xBE950342#32
  | 36 => 0x3FFFFEDD#32
  | 37 => 0x3FD4F3C4#32
  | 38 => 0x3DE48255#32
  | 39 => 0x3F554E21#32
  | 40 => 0x3EEFB450#32
  | 41 => 0xBF471168#32
  | 42 => 0xBE689A75#32
  | 43 => 0xBF9254DC#32
  | 44 => 0xBF97DBF1#32
  | 45 => 0x40C3B27F#32
  | 46 => 0xBE92FFAC#32
  | 47 => 0x3F8D42F2#32
  | 48 => 0xBD72D5C3#32
  | 49 => 0xBFF4FF1C#32
  | 50 => 0x3E287BB8#32
  | 51 => 0x3FEDDC6A#32
  | 52 => 0xBFB1DB85#32
  | 53 => 0x3FCAE9C2#32
  | 54 => 0x4007F2F6#32
  | 55 => 0xBFA7AA6A#32
  | 56 => 0xBF13B041#32
  | 57 => 0x3F626870#32
  | 58 => 0x3ECBF0FD#32
  | 59 => 0x3FCD19AB#32
  | 60 => 0x3FB8BC64#32
  | 61 => 0x3E803789#32
  | 62 => 0xBEE308F5#32
  | 63 => 0xBEA970A3#32
  | 64 => 0x3F053B76#32
  | 65 => 0x3F99D688#32
  | 66 => 0x3F80CE08#32
  | 67 => 0x3FC5BC70#32
  | 68 => 0xBEBA0CAB#32
  | 69 => 0xBF675EDA#32
  | 70 => 0x3EA1C721#32
  | 71 => 0x3FA4ECFD#32
  | 72 => 0xBE76B8D0#32
  | 73 => 0xBC93CC20#32
  | 74 => 0x3F9C55A5#32
  | 75 => 0x3F96F1FC#32
  | 76 => 0x3EF48120#32
  | 77 => 0xBEE8164C#32
  | 78 => 0x3F31B378#32
  | 79 => 0x40170294#32
  | 80 => 0x3F93ADBA#32
  | 81 => 0xBE4583AA#32
  | 82 => 0xBE535D93#32
  | 83 => 0x3FDE5324#32
  | 84 => 0xBEAD9133#32
  | 85 => 0x3FFFB989#32
  | 86 => 0x3EC62B3A#32
  | 87 => 0x3F598DFC#32
  | 88 => 0xBFA26B8A#32
  | 89 => 0x402CEFDE#32
  | 90 => 0xBEA621E7#32
  | 91 => 0x3F57D188#32
  | 92 => 0xBF17C702#32
  | 93 => 0x3F0B4B3E#32
  | 94 => 0x3F952BBD#32
  | 95 => 0x3E0A1D8D#32
  | 96 => 0x3F707F67#32
  | 97 => 0xBF138D96#32
  | 98 => 0x3F3160A9#32
  | 99 => 0xBED325E5#32
  | 100 => 0x40031726#32
  | 101 => 0x401A4728#32
  | 102 => 0xBD885E04#32
  | 103 => 0x3FC2D6B5#32
  | 104 => 0xBF8F7F44#32
  | 105 => 0x4025F53F#32
  | 106 => 0x3FAC5DC3#32
  | 107 => 0xBF3D81B2#32
  | 108 => 0x3E83A6FA#32
  | 109 => 0x3E8565B5#32
  | 110 => 0x3FBB96AD#32
  | 111 => 0x3F15950B#32
  | 112 => 0x409327E0#32
  | 113 => 0x3F8DE248#32
  | 114 => 0xBECFE625#32
  | 115 => 0xBF380B12#32
  | 116 => 0xBF23E6C2#32
  | 117 => 0x3F5D92C8#32
  | 118 => 0xBC355821#32
  | 119 => 0xBF9E1C1B#32
  | 120 => 0xBF12CEEF#32
  | 121 => 0x3FF4F152#32
  | 122 => 0xBE18E029#32
  | 123 => 0x3FEEF8E3#32
  | 124 => 0x3F95CA30#32
  | 125 => 0x3EE897C6#32
  | 126 => 0xBEADF4FA#32
  | 127 => 0x3DC9DDDA#32
  | _ => 0#32

noncomputable abbrev lit0t0_378 (i : Nat) : BitVec 32 := match i % 128 with
  | 0 => 0x4023A92C#32
  | 1 => 0xBFB849A2#32
  | 2 => 0x4038A921#32
  | 3 => 0xBFA3D2F1#32
  | 4 => 0x3F50978A#32
  | 5 => 0x3F176863#32
  | 6 => 0x403F25C8#32
  | 7 => 0x3E9026A7#32
  | 8 => 0x3FB7C8AD#32
  | 9 => 0x3D5D9CE3#32
  | 10 => 0x3F840E32#32
  | 11 => 0x3F131B67#32
  | 12 => 0x3F840717#32
  | 13 => 0x3F1A9139#32
  | 14 => 0x3F1483C4#32
  | 15 => 0x40018AB9#32
  | 16 => 0x4004C668#32
  | 17 => 0xBF98A949#32
  | 18 => 0xBEBC6992#32
  | 19 => 0xBF4D2455#32
  | 20 => 0xBF81009F#32
  | 21 => 0xBED4B3F1#32
  | 22 => 0xBFCC6280#32
  | 23 => 0x3ED75688#32
  | 24 => 0x3F88B290#32
  | 25 => 0xBE978D59#32
  | 26 => 0x3F12808C#32
  | 27 => 0xBF3A1405#32
  | 28 => 0xBE3BE403#32
  | 29 => 0x405A93AA#32
  | 30 => 0xBF0E9CDC#32
  | 31 => 0xBF68B703#32
  | 32 => 0xBEBBD967#32
  | 33 => 0x4008F96F#32
  | 34 => 0xBCEEC4BE#32
  | 35 => 0xBE88DFC0#32
  | 36 => 0x4010D4C2#32
  | 37 => 0x3D484DAB#32
  | 38 => 0x409793EF#32
  | 39 => 0x3E570133#32
  | 40 => 0xBF252844#32
  | 41 => 0x3E9DDFFB#32
  | 42 => 0x3F51A6EA#32
  | 43 => 0x3F49E132#32
  | 44 => 0xBEEA2BAE#32
  | 45 => 0xBDEB466A#32
  | 46 => 0xBFAAEB17#32
  | 47 => 0x3F8D8171#32
  | 48 => 0x3F185126#32
  | 49 => 0x3F475C02#32
  | 50 => 0xBEF41F67#32
  | 51 => 0x3FB4B26E#32
  | 52 => 0x3FCD5808#32
  | 53 => 0x40C43DF4#32
  | 54 => 0xBE89399B#32
  | 55 => 0x3E8EAEE3#32
  | 56 => 0x3FA11C26#32
  | 57 => 0x3F4C8094#32
  | 58 => 0xBF9542B9#32
  | 59 => 0x3FF98C3D#32
  | 60 => 0x3E96392A#32
  | 61 => 0xBF850C8E#32
  | 62 => 0x3F8B7A8F#32
  | 63 => 0x3F8D8566#32
  | 64 => 0xBE292366#32
  | 65 => 0xBF49738E#32
  | 66 => 0x3FE2000B#32
  | 67 => 0xBF06B9DA#32
  | 68 => 0x3F6A435B#32
  | 69 => 0xBEF56DAD#32
  | 70 => 0xBF754B6C#32
  | 71 => 0x4059B663#32
  | 72 => 0xBE705EDC#32
  | 73 => 0x3FBB9F54#32
  | 74 => 0xBE52F4F3#32
  | 75 => 0x4004ADE2#32
  | 76 => 0xBE4802E2#32
  | 77 => 0xBFA20B76#32
  | 78 => 0x3F8D835D#32
  | 79 => 0x3E99FC87#32
  | 80 => 0x3F073702#32
  | 81 => 0xBDD0B223#32
  | 82 => 0x3FF1DC7A#32
  | 83 => 0x3F992E3F#32
  | 84 => 0x401668C1#32
  | 85 => 0x404E915E#32
  | 86 => 0x402ABCCD#32
  | 87 => 0xBF096630#32
  | 88 => 0xBCAF464A#32
  | 89 => 0xBD9385C1#32
  | 90 => 0x3EBE8D74#32
  | 91 => 0x3EF256E2#32
  | 92 => 0x3F5EF568#32
  | 93 => 0x3FC7E6A6#32
  | 94 => 0xBD4F1EC8#32
  | 95 => 0xBE596173#32
  | 96 => 0xBED2A6C9#32
  | 97 => 0x400EB6EE#32
  | 98 => 0x40944A64#32
  | 99 => 0x40012B70#32
  | 100 => 0xBDAE75AE#32
  | 101 => 0x3F8C2064#32
  | 102 => 0x40392B7B#32
  | 103 => 0x3E0D7A35#32
  | 104 => 0x405D9339#32
  | 105 => 0x3F1AD863#32
  | 106 => 0x3E02C857#32
  | 107 => 0x3FA15A6C#32
  | 108 => 0x3F58CBAA#32
  | 109 => 0x3ED95BB9#32
  | 110 => 0xBFAD96F7#32
  | 111 => 0x3F638AE6#32
  | 112 => 0x3F10F8A6#32
  | 113 => 0x3F71AE94#32
  | 114 => 0xBD5A65BB#32
  | 115 => 0x400735F5#32
  | 116 => 0xBF515566#32
  | 117 => 0x3FDB3178#32
  | 118 => 0x3D875DF1#32
  | 119 => 0x3F8D6C16#32
  | 120 => 0x40108B84#32
  | 121 => 0x40128325#32
  | 122 => 0x3F2906DB#32
  | 123 => 0x3E9FBE74#32
  | 124 => 0x404C1B7E#32
  | 125 => 0xBDA67A4B#32
  | 126 => 0xBEFCA22C#32
  | 127 => 0x3FB4FBF2#32
  | _ => 0#32

noncomputable abbrev lit0t0_379 (i : Nat) : BitVec 32 := match i % 128 with
  | 0 => 0xBE878410#32
  | 1 => 0xBEB36C95#32
  | 2 => 0x3F96585A#32
  | 3 => 0x3FBF685B#32
  | 4 => 0xBF61D152#32
  | 5 => 0xBE462294#32
  | 6 => 0xBBB82052#32
  | 7 => 0x3FF764A8#32
  | 8 => 0x400F7C0F#32
  | 9 => 0x408F8FBA#32
  | 10 => 0x4009D784#32
  | 11 => 0xBE634EB1#32
  | 12 => 0x3FB397DF#32
  | 13 => 0xBC114C93#32
  | 14 => 0x3FCC9F50#32
  | 15 => 0x3FCC18E4#32
  | 16 => 0xBF8C12F2#32
  | 17 => 0x4019722D#32
  | 18 => 0x3E53E199#32
  | 19 => 0x3F65A8A6#32
  | 20 => 0x40116953#32
  | 21 => 0x3FDD0688#32
  | 22 => 0x401BA810#32
  | 23 => 0xBF7B813E#32
  | 24 => 0x3FF43635#32
  | 25 => 0xBFAF2A52#32
  | 26 => 0xBEA1EC50#32
  | 27 => 0x3E14EC57#32
  | 28 => 0xBF745922#32
  | 29 => 0xBF5868BF#32
  | 30 => 0x3EED4E58#32
  | 31 => 0x40635A7F#32
  | 32 => 0xBE10C147#32
  | 33 => 0x3EA333FF#32
  | 34 => 0xBEBA7C1A#32
  | 35 => 0x3FAE7C85#32
  | 36 => 0x3FCC6B68#32
  | 37 => 0x3EEC5B65#32
  | 38 => 0x3FBAB8ED#32
  | 39 => 0x3DFFD945#32
  | 40 => 0xBF45FD58#32
  | 41 => 0x3FEBCE49#32
  | 42 => 0xBE6D11F6#32
  | 43 => 0x3F72A4AE#32
  | 44 => 0x3E26EF48#32
  | 45 => 0xBE03FC44#32
  | 46 => 0x3ED7B478#32
  | 47 => 0x3EAD4702#32
  | 48 => 0xBFCC7149#32
  | 49 => 0x3EE3B728#32
  | 50 => 0x4026BCDD#32
  | 51 => 0x3F415F86#32
  | 52 => 0xBC46E4B2#32
  | 53 => 0xBEE5F5F6#32
  | 54 => 0x3EA8B15C#32
  | 55 => 0x3FC1C18B#32
  | 56 => 0xBF560B8E#32
  | 57 => 0x3F99B226#32
  | 58 => 0x40195D59#32
  | 59 => 0x40134A69#32
  | 60 => 0xBE00752D#32
  | 61 => 0x3EE6A89C#32
  | 62 => 0x3E755114#32
  | 63 => 0x3E336466#32
  | 64 => 0xBDE735D0#32
  | 65 => 0xBEB2DDA3#32
  | 66 => 0xBE165301#32
  | 67 => 0x4002056D#32
  | 68 => 0xBE255B3B#32
  | 69 => 0xBDBC7BBA#32
  | 70 => 0xBE4BAC11#32
  | 71 => 0x3FF66DD7#32
  | 72 => 0xBEA149D5#32
  | 73 => 0x3F053546#32
  | 74 => 0x3FA96F00#32
  | 75 => 0x405E294A#32
  | 76 => 0xBF1231F4#32
  | 77 => 0x408E9C7A#32
  | 78 => 0x3F24851C#32
  | 79 => 0xBE7A0784#32
  | 80 => 0x3FFC7AC2#32
  | 81 => 0x3F4AB7C9#32
  | 82 => 0x3F3AC4BB#32
  | 83 => 0xBF341B4B#32
  | 84 => 0x3CA795D9#32
  | 85 => 0xBDDA806E#32
  | 86 => 0x3FD60D94#32
  | 87 => 0xBF43A78C#32
  | 88 => 0xBF595789#32
  | 89 => 0x3F2946A5#32
  | 90 => 0x40153FD2#32
  | 91 => 0xBF46E3F7#32
  | 92 => 0x3EEAE420#32
  | 93 => 0x3F818038#32
  | 94 => 0x407BD5D8#32
  | 95 => 0x3F0BE262#32
  | 96 => 0x3F276301#32
  | 97 => 0xBED8B6B1#32
  | 98 => 0xBFA38AC1#32
  | 99 => 0x3F5D11E1#32
  | 100 => 0x3EE8BA0C#32
  | 101 => 0xBEFF7D24#32
  | 102 => 0x3FCD6836#32
  | 103 => 0x4002F9CF#32
  | 104 => 0xBF0EBEDE#32
  | 105 => 0x3E939974#32
  | 106 => 0x3FAE6DA2#32
  | 107 => 0x3FE666C0#32
  | 108 => 0xBF965ED8#32
  | 109 => 0x3B20C06E#32
  | 110 => 0xBF8BCE02#32
  | 111 => 0xBF966E8E#32
  | 112 => 0x4087B153#32
  | 113 => 0x3FD52272#32
  | 114 => 0x3F5ABEE5#32
  | 115 => 0x3CB209F5#32
  | 116 => 0xBF05227A#32
  | 117 => 0x3EC685A1#32
  | 118 => 0x3FD263C8#32
  | 119 => 0x3F7C54B4#32
  | 120 => 0xBFA94955#32
  | 121 => 0xBE278200#32
  | 122 => 0x3F6B04A8#32
  | 123 => 0xBF87BF89#32
  | 124 => 0xBFA78B73#32
  | 125 => 0x3EC8BD1D#32
  | 126 => 0x3FEDF162#32
  | 127 => 0x3F28BEFC#32
  | _ => 0#32

noncomputable abbrev lit0t0_380 (i : Nat) : BitVec 32 := match i % 128 with
  | 0 => 0x3E60EF30#32
  | 1 => 0x3F96D6F4#32
  | 2 => 0xBF425CEB#32
  | 3 => 0xBF52B194#32
  | 4 => 0x3F451895#32
  | 5 => 0xBE074024#32
  | 6 => 0x3FA03728#32
  | 7 => 0x3F56A8CF#32
  | 8 => 0x4061CAB5#32
  | 9 => 0x3F9F5EC5#32
  | 10 => 0xBE2558BC#32
  | 11 => 0x3EBF4BBA#32
  | 12 => 0xBF953A2A#32
  | 13 => 0x40121E6F#32
  | 14 => 0xBF927F40#32
  | 15 => 0xBFB2341E#32
  | 16 => 0x3F682C5F#32
  | 17 => 0x3E443D4D#32
  | 18 => 0xBF0D0575#32
  | 19 => 0x3F42CF61#32
  | 20 => 0x3D87F701#32
  | 21 => 0x3F8290D1#32
  | 22 => 0xBEF26FEA#32
  | 23 => 0x3F1D5FAE#32
  | 24 => 0x3EB33C70#32
  | 25 => 0x3C901A10#32
  | 26 => 0x3E59B463#32
  | 27 => 0x3E0AD4AA#32
  | 28 => 0x3EF3A6C6#32
  | 29 => 0x3FD05F49#32
  | 30 => 0xBF578565#32
  | 31 => 0xBF89FC96#32
  | 32 => 0x3F4786FA#32
  | 33 => 0x3E3AF37C#32
  | 34 => 0x3FB5737B#32
  | 35 => 0x402B1530#32
  | 36 => 0xBF927B41#32
  | 37 => 0x3D544640#32
  | 38 => 0x40C934F1#32
  | 39 => 0xBEDED676#32
  | 40 => 0xBDD54736#32
  | 41 => 0x4078F3C5#32
  | 42 => 0x3F1E32F8#32
  | 43 => 0x3EEE0424#32
  | 44 => 0x3E2142B3#32
  | 45 => 0xBF9BC967#32
  | 46 => 0xBF958B84#32
  | 47 => 0x3FE43660#32
  | 48 => 0xBE68B7EA#32
  | 49 => 0xBF158672#32
  | 50 => 0xBF5E22E8#32
  | 51 => 0xBE96EA91#32
  | 52 => 0xBE340116#32
  | 53 => 0xBE827EE5#32
  | 54 => 0x3F4D0E54#32
  | 55 => 0x4005E0FB#32
  | 56 => 0xBFCB3139#32
  | 57 => 0xBF1992BA#32
  | 58 => 0xBF175159#32
  | 59 => 0xBE140915#32
  | 60 => 0xBEAE3214#32
  | 61 => 0xBF92EDE2#32
  | 62 => 0xBEB1ECDC#32
  | 63 => 0xBF3D0504#32
  | 64 => 0xBE8B7DC9#32
  | 65 => 0x3F31213B#32
  | 66 => 0x3F5227E4#32
  | 67 => 0xBF52912D#32
  | 68 => 0x3FE6D516#32
  | 69 => 0xBF2EC53A#32
  | 70 => 0xBEF4631E#32
  | 71 => 0x3EA826A3#32
  | 72 => 0xBDE6E359#32
  | 73 => 0xBF617C91#32
  | 74 => 0xBF947F30#32
  | 75 => 0x3FF33BEF#32
  | 76 => 0x3EF33EC8#32
  | 77 => 0x3E9A6BD5#32
  | 78 => 0x40513108#32
  | 79 => 0xBF9891E1#32
  | 80 => 0x3F42820E#32
  | 81 => 0x4024E871#32
  | 82 => 0x3FB0FE93#32
  | 83 => 0x3FF81FE0#32
  | 84 => 0xBFA1D151#32
  | 85 => 0x3F08983A#32
  | 86 => 0x3FB64D92#32
  | 87 => 0xBF998093#32
  | 88 => 0x3F93D48D#32
  | 89 => 0x402B61FE#32
  | 90 => 0xBF96E287#32
  | 91 => 0xBE02B71D#32
  | 92 => 0xBEA36624#32
  | 93 => 0xBE9A1C78#32
  | 94 => 0x3F8AADB6#32
  | 95 => 0x3F1CCEEE#32
  | 96 => 0x3D54712B#32
  | 97 => 0x3D5F4227#32
  | 98 => 0x3E69BF5A#32
  | 99 => 0x3EEB2CCA#32
  | 100 => 0x3E5556A2#32
  | 101 => 0xBF3320BB#32
  | 102 => 0xBEAE39B1#32
  | 103 => 0x3FDE9B4E#32
  | 104 => 0x3E83BAF1#32
  | 105 => 0x3FD7BD9F#32
  | 106 => 0x405FA9DC#32
  | 107 => 0x3FC4423C#32
  | 108 => 0xBD7F42B9#32
  | 109 => 0x3EC3851A#32
  | 110 => 0x3F98F1B6#32
  | 111 => 0xBE61B55F#32
  | 112 => 0x3ED73A0A#32
  | 113 => 0x3F00400E#32
  | 114 => 0xBE8FCE65#32
  | 115 => 0x408B0A07#32
  | 116 => 0x3F2BECFA#32
  | 117 => 0x3EE96204#32
  | 118 => 0x3FFD7DE9#32
  | 119 => 0x3F6AD0CE#32
  | 120 => 0x3F12DEFB#32
  | 121 => 0x3EFA4A79#32
  | 122 => 0xBEB8DC5A#32
  | 123 => 0x40A48F3C#32
  | 124 => 0x3F2F496A#32
  | 125 => 0xBF3BAC1F#32
  | 126 => 0x3F48C553#32
  | 127 => 0xBEAFE948#32
  | _ => 0#32

noncomputable abbrev lit0t0_381 (i : Nat) : BitVec 32 := match i % 128 with
  | 0 => 0x3F88969B#32
  | 1 => 0x3E96B814#32
  | 2 => 0xBE650B28#32
  | 3 => 0xBF3DF671#32
  | 4 => 0xBF34DA7B#32
  | 5 => 0x3E92ED9F#32
  | 6 => 0xBE947A2A#32
  | 7 => 0x3F240426#32
  | 8 => 0xBE918ACD#32
  | 9 => 0x3F52D6D5#32
  | 10 => 0x3F979BCA#32
  | 11 => 0x3FE812CC#32
  | 12 => 0x40911C81#32
  | 13 => 0x3F271436#32
  | 14 => 0xBF2A4AC8#32
  | 15 => 0x3E8FA94C#32
  | 16 => 0x3FA4ACE1#32
  | 17 => 0x3F30F6F0#32
  | 18 => 0xBDF34240#32
  | 19 => 0x3F730A3E#32
  | 20 => 0x3F10E492#32
  | 21 => 0xBF2F6915#32
  | 22 => 0x3FCE8B3E#32
  | 23 => 0x3F4309A1#32
  | 24 => 0x3F18AED8#32
  | 25 => 0xBED5214C#32
  | 26 => 0x3FD7EBDD#32
  | 27 => 0x3F12AFD5#32
  | 28 => 0x3EF7CE94#32
  | 29 => 0x3F2ABA05#32
  | 30 => 0xBF3C3ECD#32
  | 31 => 0x3F39CEBB#32
  | 32 => 0x3F4C8676#32
  | 33 => 0x40255654#32
  | 34 => 0xBD0ECCAA#32
  | 35 => 0x3FD42B5A#32
  | 36 => 0xBF1F142F#32
  | 37 => 0xBF94DB55#32
  | 38 => 0xBF499028#32
  | 39 => 0x3E15B617#32
  | 40 => 0x3FC5C5C7#32
  | 41 => 0x3F3D0181#32
  | 42 => 0xBDAE4594#32
  | 43 => 0x3FB17959#32
  | 44 => 0x3FCECA0C#32
  | 45 => 0x3F85D016#32
  | 46 => 0xBE881752#32
  | 47 => 0xBDD35EEE#32
  | 48 => 0x3C9E8B7D#32
  | 49 => 0x3F663EA8#32
  | 50 => 0x401EF942#32
  | 51 => 0xBDDD99CF#32
  | 52 => 0x401C351D#32
  | 53 => 0x3E00C52C#32
  | 54 => 0x3E6DC148#32
  | 55 => 0x3F2009C7#32
  | 56 => 0xBF74D827#32
  | 57 => 0x3F79397E#32
  | 58 => 0x3F26E900#32
  | 59 => 0xBE3004FD#32
  | 60 => 0xBF993C9C#32
  | 61 => 0x3EE91B8A#32
  | 62 => 0x40297012#32
  | 63 => 0x3E3F54E1#32
  | 64 => 0xBEFC7B8C#32
  | 65 => 0x3F9EEA85#32
  | 66 => 0xBFA59463#32
  | 67 => 0x4031CB46#32
  | 68 => 0xBF0F597A#32
  | 69 => 0x3C80E90C#32
  | 70 => 0xBE811B37#32
  | 71 => 0xBE40AAAE#32
  | 72 => 0x3D8FE051#32
  | 73 => 0x3FB68107#32
  | 74 => 0x3E97C5CF#32
  | 75 => 0xBF8E477F#32
  | 76 => 0x3E6ED568#32
  | 77 => 0x3FC0BD5B#32
  | 78 => 0x3F80F0D5#32
  | 79 => 0xBED924D3#32
  | 80 => 0x3F922AFE#32
  | 81 => 0xBF800570#32
  | 82 => 0x3F49D98F#32
  | 83 => 0xBED3D962#32
  | 84 => 0xBE88F2F7#32
  | 85 => 0xBF28A703#32
  | 86 => 0x40BD5262#32
  | 87 => 0x3F212F6D#32
  | 88 => 0xBF920C4C#32
  | 89 => 0x3FC880B4#32
  | 90 => 0xBF89F27E#32
  | 91 => 0xBF48A63D#32
  | 92 => 0xBFE5F616#32
  | 93 => 0x3F851D08#32
  | 94 => 0xBF48368D#32
  | 95 => 0xBF54E573#32
  | 96 => 0xBF498105#32
  | 97 => 0xBF7A9342#32
  | 98 => 0x3E0ACF30#32
  | 99 => 0xBF4AD9BC#32
  | 100 => 0x3DE85F82#32
  | 101 => 0x3FA8929E#32
  | 102 => 0x3FAA32E5#32
  | 103 => 0x403225EB#32
  | 104 => 0xBF036F2F#32
  | 105 => 0x3FEE4B90#32
  | 106 => 0x3F8BFB09#32
  | 107 => 0xBEE9B546#32
  | 108 => 0xBF3678FA#32
  | 109 => 0x3E47B8B1#32
  | 110 => 0x3FE1E22C#32
  | 111 => 0xBF94A558#32
  | 112 => 0x3EB1C1ED#32
  | 113 => 0x3FF3C822#32
  | 114 => 0x3F609428#32
  | 115 => 0x3FBE55C5#32
  | 116 => 0x4038B7EE#32
  | 117 => 0x3F456FCA#32
  | 118 => 0x3F976B3F#32
  | 119 => 0x3DA929D6#32
  | 120 => 0x3F2FE747#32
  | 121 => 0xBF448571#32
  | 122 => 0xBF59E53E#32
  | 123 => 0xBEAE431E#32
  | 124 => 0xBF5F3154#32
  | 125 => 0x3E9D198F#32
  | 126 => 0xBE096969#32
  | 127 => 0x3F3366AA#32
  | _ => 0#32

noncomputable abbrev lit0t0_382 (i : Nat) : BitVec 32 := match i % 128 with
  | 0 => 0x3F779BDC#32
  | 1 => 0xBD731C34#32
  | 2 => 0xBE73E973#32
  | 3 => 0xBEDB322B#32
  | 4 => 0xBF7FACF0#32
  | 5 => 0x3F086172#32
  | 6 => 0x40381A6D#32
  | 7 => 0xBE48B840#32
  | 8 => 0xBF55FB4B#32
  | 9 => 0x4000AC5E#32
  | 10 => 0x3DCAE617#32
  | 11 => 0x3C957445#32
  | 12 => 0x3F40EB42#32
  | 13 => 0x3F43A3BE#32
  | 14 => 0x3F9C377B#32
  | 15 => 0xBF9815B1#32
  | 16 => 0x3F4C98CA#32
  | 17 => 0xBF741CAD#32
  | 18 => 0xBE518A1C#32
  | 19 => 0xBDB5AAEF#32
  | 20 => 0x3F20FD74#32
  | 21 => 0x40592F56#32
  | 22 => 0xBF1FCC5C#32
  | 23 => 0xBF821E6B#32
  | 24 => 0x3E918CF9#32
  | 25 => 0xBEBC0E68#32
  | 26 => 0x3EE06E0C#32
  | 27 => 0x40048780#32
  | 28 => 0xBF10449B#32
  | 29 => 0xBF4EBC3B#32
  | 30 => 0xBEE7071C#32
  | 31 => 0x4012BD71#32
  | 32 => 0xBE997C2E#32
  | 33 => 0xBF6B2F62#32
  | 34 => 0x4028B577#32
  | 35 => 0x3EDD7B87#32
  | 36 => 0xBFA1A561#32
  | 37 => 0xBE4CE89C#32
  | 38 => 0x3EACE67C#32
  | 39 => 0x3E8DDE55#32
  | 40 => 0x3EE0150A#32
  | 41 => 0xBD85D889#32
  | 42 => 0x3ED5C013#32
  | 43 => 0xBEC0C843#32
  | 44 => 0xBE382707#32
  | 45 => 0x3F58C7BA#32
  | 46 => 0xBF06822A#32
  | 47 => 0x3F903A82#32
  | 48 => 0xBEFCB424#32
  | 49 => 0x3EB33912#32
  | 50 => 0xBE1CF6BF#32
  | 51 => 0x3F433B4A#32
  | 52 => 0x3F9AB524#32
  | 53 => 0x3DA664F3#32
  | 54 => 0xBE6B7672#32
  | 55 => 0x3E3F132B#32
  | 56 => 0x3F89A681#32
  | 57 => 0x3E1EC83D#32
  | 58 => 0x40156757#32
  | 59 => 0x3F89E421#32
  | 60 => 0xBE66E6DF#32
  | 61 => 0xBF7FF0B5#32
  | 62 => 0xBF0249BE#32
  | 63 => 0x4009B921#32
  | 64 => 0x3E1F7D47#32
  | 65 => 0x404AAB42#32
  | 66 => 0xBE8EA435#32
  | 67 => 0x3E5CA5A2#32
  | 68 => 0xBF2DB38C#32
  | 69 => 0xBF6F8797#32
  | 70 => 0xBDEF2F95#32
  | 71 => 0x3FDE18ED#32
  | 72 => 0x4003BF7F#32
  | 73 => 0xBD854E68#32
  | 74 => 0xBF1A185F#32
  | 75 => 0xBF7F9390#32
  | 76 => 0xBE96AB28#32
  | 77 => 0xBF3687F0#32
  | 78 => 0x3FACE194#32
  | 79 => 0x3F5BB8CB#32
  | 80 => 0x3F8F4D44#32
  | 81 => 0xBF0AED2C#32
  | 82 => 0x3F1CBCAB#32
  | 83 => 0x3F003634#32
  | 84 => 0x3DBF1040#32
  | 85 => 0x3FE69F0E#32
  | 86 => 0x3ED2EE91#32
  | 87 => 0xBEBD439A#32
  | 88 => 0x4000EDCC#32
  | 89 => 0x4000AE67#32
  | 90 => 0xBFA22FA8#32
  | 91 => 0x3FAA83DC#32
  | 92 => 0x3FDF0A04#32
  | 93 => 0xBF611D38#32
  | 94 => 0xBFA41D2D#32
  | 95 => 0x40609E90#32
  | 96 => 0x405AEB27#32
  | 97 => 0xBE8C508E#32
  | 98 => 0x3F250657#32
  | 99 => 0x3E80EC36#32
  | 100 => 0xBEE548B6#32
  | 101 => 0xBF52F88B#32
  | 102 => 0x3FF9FA6B#32
  | 103 => 0xBF991C16#32
  | 104 => 0x3F06C3D0#32
  | 105 => 0x3FF8486C#32
  | 106 => 0x3F6B331A#32
  | 107 => 0x404DA99C#32
  | 108 => 0xBE7C5AC7#32
  | 109 => 0x3FDED9B9#32
  | 110 => 0xBF9BA9B1#32
  | 111 => 0x3F51E931#32
  | 112 => 0xBEC15F38#32
  | 113 => 0x3F2C3F27#32
  | 114 => 0x3ECE24EE#32
  | 115 => 0xBF626E99#32
  | 116 => 0x3F8D0A87#32
  | 117 => 0xBF8025E2#32
  | 118 => 0x3FF11BFC#32
  | 119 => 0x3E80955D#32
  | 120 => 0x3F897B89#32
  | 121 => 0x3F543C44#32
  | 122 => 0xBF4300B8#32
  | 123 => 0x3F533ACC#32
  | 124 => 0x3FD0928D#32
  | 125 => 0x3FCFF712#32
  | 126 => 0x3EC29728#32
  | 127 => 0xBEFFBFC8#32
  | _ => 0#32

noncomputable abbrev lit0t0_383 (i : Nat) : BitVec 32 := match i % 128 with
  | 0 => 0xBF6A400F#32
  | 1 => 0x3F03CE60#32
  | 2 => 0x3FA2381C#32
  | 3 => 0xBDCA99E2#32
  | 4 => 0x3F0634BE#32
  | 5 => 0xBF328E9A#32
  | 6 => 0xBDE13CC1#32
  | 7 => 0x40080189#32
  | 8 => 0xBE8DE28C#32
  | 9 => 0x3E27CB44#32
  | 10 => 0x3F32AE42#32
  | 11 => 0x3F53843F#32
  | 12 => 0x3F52B0BD#32
  | 13 => 0xBC583826#32
  | 14 => 0x402833BB#32
  | 15 => 0x3FF4EB17#32
  | 16 => 0x3F631894#32
  | 17 => 0x403C08EA#32
  | 18 => 0xBF08103C#32
  | 19 => 0xBD487435#32
  | 20 => 0xBF404734#32
  | 21 => 0x3FF915D4#32
  | 22 => 0xBFD7AC00#32
  | 23 => 0x3F7DD96B#32
  | 24 => 0xBEFF5D84#32
  | 25 => 0xBDD8D22D#32
  | 26 => 0xBFA2F314#32
  | 27 => 0x3E1D147E#32
  | 28 => 0x3F486FB0#32
  | 29 => 0xBE37E61E#32
  | 30 => 0x3CBEE6C8#32
  | 31 => 0xBC9B35B5#32
  | 32 => 0x3F21B885#32
  | 33 => 0x3F5B4524#32
  | 34 => 0xBF19A675#32
  | 35 => 0xBF05191C#32
  | 36 => 0xBF0C8405#32
  | 37 => 0xBF89F109#32
  | 38 => 0x40130FFC#32
  | 39 => 0xBF435F13#32
  | 40 => 0xBCFC10F7#32
  | 41 => 0x4058BD96#32
  | 42 => 0x3FC73BDF#32
  | 43 => 0x3E2BF1AE#32
  | 44 => 0x3F39EB0C#32
  | 45 => 0x3F5B564E#32
  | 46 => 0x3ED47C84#32
  | 47 => 0x3FB14F21#32
  | 48 => 0xBF16E7BE#32
  | 49 => 0xBE8F9C80#32
  | 50 => 0xBF2E5026#32
  | 51 => 0x3FD2F28C#32
  | 52 => 0xBF3BE7F7#32
  | 53 => 0x3F46B427#32
  | 54 => 0xBF722B11#32
  | 55 => 0xBF6AC1AC#32
  | 56 => 0x3F18CEFA#32
  | 57 => 0xBF28CF82#32
  | 58 => 0x3F9555EC#32
  | 59 => 0x3F08E5FF#32
  | 60 => 0x3F90F660#32
  | 61 => 0x3F164B98#32
  | 62 => 0x3C3BC15C#32
  | 63 => 0xBDA738B2#32
  | 64 => 0x3E0AF999#32
  | 65 => 0xBF9F7384#32
  | 66 => 0x3F80DD5E#32
  | 67 => 0x3FD6BEF1#32
  | 68 => 0x3ED17EAE#32
  | 69 => 0xBF0DD84E#32
  | 70 => 0x40865E93#32
  | 71 => 0x40408F42#32
  | 72 => 0x3ED8E22A#32
  | 73 => 0x404DA38B#32
  | 74 => 0xBEB869B3#32
  | 75 => 0x3E2D1A5E#32
  | 76 => 0x3F472C0C#32
  | 77 => 0xBF46375E#32
  | 78 => 0xBEE1480A#32
  | 79 => 0x40025636#32
  | 80 => 0x40CF92F9#32
  | 81 => 0x3E9D63C2#32
  | 82 => 0x3F6C2770#32
  | 83 => 0xBF23D5F5#32
  | 84 => 0x3F1162D0#32
  | 85 => 0x40B6CC15#32
  | 86 => 0xBF85D5E0#32
  | 87 => 0x4034164D#32
  | 88 => 0xBFE79DAF#32
  | 89 => 0x3FCC984F#32
  | 90 => 0x3F3A43EB#32
  | 91 => 0x3F3BB85F#32
  | 92 => 0x3ECF4013#32
  | 93 => 0x3F476CBC#32
  | 94 => 0x4068ED4A#32
  | 95 => 0x3F0043B9#32
  | 96 => 0x3DE7537A#32
  | 97 => 0x3FD7F368#32
  | 98 => 0x40088F7C#32
  | 99 => 0x3EA17CE4#32
  | 100 => 0x3F520D8B#32
  | 101 => 0x3F7DFD80#32
  | 102 => 0x4017B54C#32
  | 103 => 0x3F74586E#32
  | 104 => 0xBECCDAC9#32
  | 105 => 0xBF002C62#32
  | 106 => 0x3FA6C650#32
  | 107 => 0x3F304DD9#32
  | 108 => 0xBFA719BD#32
  | 109 => 0xBE1A47CE#32
  | 110 => 0x408E43F6#32
  | 111 => 0x3DDCDCB5#32
  | 112 => 0x3F188640#32
  | 113 => 0x3F1B7C81#32
  | 114 => 0xBF30CA06#32
  | 115 => 0x4011C4BE#32
  | 116 => 0x3F2AA1A9#32
  | 117 => 0xBE1B6C8C#32
  | 118 => 0xBFAA213E#32
  | 119 => 0x3F5C488E#32
  | 120 => 0x3FB0B376#32
  | 121 => 0x3F0A53FF#32
  | 122 => 0x3F06BA0C#32
  | 123 => 0x3EA07EE5#32
  | 124 => 0x3FAEE0A1#32
  | 125 => 0xBF13A4F6#32
  | 126 => 0xBD8089EA#32
  | 127 => 0xBEE54A0C#32
  | _ => 0#32

noncomputable abbrev lit0t0_384 (i : Nat) : BitVec 32 := match i % 128 with
  | 0 => 0xBD54552C#32
  | 1 => 0xBEBA9137#32
  | 2 => 0x4012772E#32
  | 3 => 0x3F275A50#32
  | 4 => 0x3F27587F#32
  | 5 => 0x3FAA98CB#32
  | 6 => 0xBF514CDC#32
  | 7 => 0xBD18C505#32
  | 8 => 0x3DB138B4#32
  | 9 => 0xBF7A243B#32
  | 10 => 0xBEC9C061#32
  | 11 => 0x3E49DD77#32
  | 12 => 0x3F9E82B2#32
  | 13 => 0x3F8C5469#32
  | 14 => 0x3F024E52#32
  | 15 => 0x3ED1B6AE#32
  | 16 => 0xBF2298AB#32
  | 17 => 0x3EA7B049#32
  | 18 => 0xBE831665#32
  | 19 => 0x3EB1AD57#32
  | 20 => 0xBF4A272E#32
  | 21 => 0x4021F720#32
  | 22 => 0x4030EE6E#32
  | 23 => 0x3EC55D8B#32
  | 24 => 0x402E25F5#32
  | 25 => 0x3FC2D961#32
  | 26 => 0xBDAF9E90#32
  | 27 => 0xBE1AB47C#32
  | 28 => 0xBF1ACA6C#32
  | 29 => 0x3FD89D15#32
  | 30 => 0xBF84E2C6#32
  | 31 => 0x3E2C0657#32
  | 32 => 0xBF03A3B4#32
  | 33 => 0x3F05C1AF#32
  | 34 => 0xBE9182DA#32
  | 35 => 0x3EFA6F06#32
  | 36 => 0x3FEAD24F#32
  | 37 => 0xBF8A5D46#32
  | 38 => 0xBE9DA5F4#32
  | 39 => 0x3F8F5547#32
  | 40 => 0xBF4CF797#32
  | 41 => 0x3F17CCC2#32
  | 42 => 0x3FA89F42#32
  | 43 => 0xBF48C6F2#32
  | 44 => 0x3F0529BE#32
  | 45 => 0xBE18F03A#32
  | 46 => 0x3E1846F4#32
  | 47 => 0x3E4D8F64#32
  | 48 => 0x3EDAF1CA#32
  | 49 => 0xBE2C3BFA#32
  | 50 => 0x3EB9B60E#32
  | 51 => 0x3F698D62#32
  | 52 => 0xBDCD7CF4#32
  | 53 => 0x3F2A22D9#32
  | 54 => 0x3F851CD3#32
  | 55 => 0x3D7F92E3#32
  | 56 => 0x3FD9E46C#32
  | 57 => 0xBDF28FE6#32
  | 58 => 0x3F2AA5BA#32
  | 59 => 0x3F88ADD6#32
  | 60 => 0x3ED4430E#32
  | 61 => 0x3FA40EE5#32
  | 62 => 0x3FD551E1#32
  | 63 => 0x400C1DDF#32
  | 64 => 0x4032DA76#32
  | 65 => 0x40065B18#32
  | 66 => 0x3F1EF087#32
  | 67 => 0xBE5C0275#32
  | 68 => 0xBF15732E#32
  | 69 => 0x3F41706C#32
  | 70 => 0xBF4A78DD#32
  | 71 => 0x3ABDEB35#32
  | 72 => 0x3F91A33A#32
  | 73 => 0x3F7CA90D#32
  | 74 => 0xBFABC3C5#32
  | 75 => 0xBFEE8E13#32
  | 76 => 0x3F6ADFF1#32
  | 77 => 0x40270079#32
  | 78 => 0xBFB028B6#32
  | 79 => 0xBE088A65#32
  | 80 => 0x400CC61A#32
  | 81 => 0xBF867781#32
  | 82 => 0x3F48C200#32
  | 83 => 0xBF4BA07C#32
  | 84 => 0xBF2E6648#32
  | 85 => 0x3EBF4F9E#32
  | 86 => 0x3E805493#32
  | 87 => 0xBE8646DD#32
  | 88 => 0x3EBB7206#32
  | 89 => 0x3EFA5652#32
  | 90 => 0x3FE86586#32
  | 91 => 0xBE3B77EA#32
  | 92 => 0x3F7D62EC#32
  | 93 => 0x3F7BE720#32
  | 94 => 0x3E9DA1A3#32
  | 95 => 0xBEBF23A6#32
  | 96 => 0x3F939983#32
  | 97 => 0x3F9717A5#32
  | 98 => 0x3EB70D63#32
  | 99 => 0x4037841E#32
  | 100 => 0x3F0DD294#32
  | 101 => 0x3FEAC07E#32
  | 102 => 0x3FA2C9E5#32
  | 103 => 0x3E904244#32
  | 104 => 0x3EF15806#32
  | 105 => 0x3F44550A#32
  | 106 => 0x40349152#32
  | 107 => 0xBF434038#32
  | 108 => 0x3FEDAC1C#32
  | 109 => 0x3F53BB48#32
  | 110 => 0x3F5616FA#32
  | 111 => 0x3FF8A2E5#32
  | 112 => 0x4038188E#32
  | 113 => 0x404E585F#32
  | 114 => 0x3E9D7174#32
  | 115 => 0x3EB6143D#32
  | 116 => 0x3F272A56#32
  | 117 => 0x3F7D4322#32
  | 118 => 0x40596276#32
  | 119 => 0x3ED531E0#32
  | 120 => 0x4012B630#32
  | 121 => 0x3FA2D3DA#32
  | 122 => 0x3F8A89DA#32
  | 123 => 0xBE9220C7#32
  | 124 => 0x3F077B3C#32
  | 125 => 0x401BC258#32
  | 126 => 0x3F3006AA#32
  | 127 => 0x40024E37#32
  | _ => 0#32

noncomputable abbrev lit0t0_385 (i : Nat) : BitVec 32 := match i % 128 with
  | 0 => 0xBF2A3410#32
  | 1 => 0x3EAC1B49#32
  | 2 => 0x3E62F034#32
  | 3 => 0x406865E1#32
  | 4 => 0xBF2CBEB1#32
  | 5 => 0x3E995CB7#32
  | 6 => 0x4023B8A5#32
  | 7 => 0xBF53F752#32
  | 8 => 0x3FA3133A#32
  | 9 => 0x3FC7910C#32
  | 10 => 0x3F14D266#32
  | 11 => 0xBED60571#32
  | 12 => 0xBFC038B9#32
  | 13 => 0x3ECCB6F9#32
  | 14 => 0x3EFECAD1#32
  | 15 => 0x3F280C44#32
  | 16 => 0x4005FB39#32
  | 17 => 0x3F8C17AF#32
  | 18 => 0x3DFA9F9F#32
  | 19 => 0x402989A2#32
  | 20 => 0x3FBBFE97#32
  | 21 => 0x3EC0CBF7#32
  | 22 => 0x3F61780B#32
  | 23 => 0xBEBC1E21#32
  | 24 => 0x4087C6E2#32
  | 25 => 0x3F54A0A5#32
  | 26 => 0x3F7CC341#32
  | 27 => 0x3F3865F9#32
  | 28 => 0x3EAE7B6E#32
  | 29 => 0x3FAEB794#32
  | 30 => 0x3FD91183#32
  | 31 => 0x3F0F4210#32
  | 32 => 0xBEEB21C6#32
  | 33 => 0xBE4EFD85#32
  | 34 => 0x3EF230E0#32
  | 35 => 0xBFB3BFFC#32
  | 36 => 0x3F38CF16#32
  | 37 => 0x3F6FD000#32
  | 38 => 0x3F6AE2A6#32
  | 39 => 0x400A97B8#32
  | 40 => 0x3F7F8C41#32
  | 41 => 0xBE8ADC7B#32
  | 42 => 0x3DB2C57C#32
  | 43 => 0x3B602A08#32
  | 44 => 0x3FF9A985#32
  | 45 => 0xBE6F8B70#32
  | 46 => 0xBEA067F2#32
  | 47 => 0x3E800566#32
  | 48 => 0x3FAF2AD4#32
  | 49 => 0x3F3F02B4#32
  | 50 => 0x3F152182#32
  | 51 => 0xBE52CECC#32
  | 52 => 0x406682A0#32
  | 53 => 0xBF0B88F1#32
  | 54 => 0x3FF98F26#32
  | 55 => 0x3D4A4DA8#32
  | 56 => 0x3F3CB333#32
  | 57 => 0xBFC2C2D2#32
  | 58 => 0x400657D0#32
  | 59 => 0xBF242938#32
  | 60 => 0x4061DB4A#32
  | 61 => 0x4002CF05#32
  | 62 => 0xBF957A59#32
  | 63 => 0x3DD422F9#32
  | 64 => 0xBEABEFAA#32
  | 65 => 0x3FB0D8D0#32
  | 66 => 0x3F88AC68#32
  | 67 => 0x3FE5BDA4#32
  | 68 => 0x4024AD86#32
  | 69 => 0x3F5C9B5E#32
  | 70 => 0xBE312B85#32
  | 71 => 0x3FD91CBE#32
  | 72 => 0x3E98EF10#32
  | 73 => 0xBEA72E45#32
  | 74 => 0x3FC1BF06#32
  | 75 => 0xBD12E642#32
  | 76 => 0x3F0F7DF8#32
  | 77 => 0xBE87F9B1#32
  | 78 => 0x3F1A4E56#32
  | 79 => 0x401CF1F4#32
  | 80 => 0x3FE171B5#32
  | 81 => 0x3E25C62F#32
  | 82 => 0x3F789893#32
  | 83 => 0x3F731C9E#32
  | 84 => 0x3E5ACD95#32
  | 85 => 0x3F18CB11#32
  | 86 => 0x404106D4#32
  | 87 => 0x3F74AF45#32
  | 88 => 0x3F322BA1#32
  | 89 => 0x4037F861#32
  | 90 => 0xBEBCCDB5#32
  | 91 => 0xBF507D96#32
  | 92 => 0xBDCA4F6E#32
  | 93 => 0xBF666039#32
  | 94 => 0xBCBBBFBE#32
  | 95 => 0xBF9583A4#32
  | 96 => 0x3FCB97C5#32
  | 97 => 0x3FD03384#32
  | 98 => 0x3FD8F5D1#32
  | 99 => 0xBE8F6E34#32
  | 100 => 0x403441FF#32
  | 101 => 0x3FC67C96#32
  | 102 => 0x3E91284A#32
  | 103 => 0x3FC1BC8A#32
  | 104 => 0x3EEBDE12#32
  | 105 => 0x3FC61BF6#32
  | 106 => 0xBF08B568#32
  | 107 => 0xBDAEF9AC#32
  | 108 => 0xBF82118E#32
  | 109 => 0x3F1D110C#32
  | 110 => 0x3FF1EDDB#32
  | 111 => 0xBF651720#32
  | 112 => 0xBBB50BBA#32
  | 113 => 0x3FC3FD74#32
  | 114 => 0x3FE14A80#32
  | 115 => 0x3E45FEF0#32
  | 116 => 0xBD9FB483#32
  | 117 => 0xBF723B40#32
  | 118 => 0x3EEDE272#32
  | 119 => 0x3FA16B3D#32
  | 120 => 0x3EFE44A4#32
  | 121 => 0xBED0C5A2#32
  | 122 => 0x3D897AB2#32
  | 123 => 0x3F772552#32
  | 124 => 0x3F9B8D61#32
  | 125 => 0xBF613B08#32
  | 126 => 0xBF1BE9A7#32
  | 127 => 0xBE7821BA#32
  | _ => 0#32

noncomputable abbrev lit0t0_386 (i : Nat) : BitVec 32 := match i % 128 with
  | 0 => 0x3F19C467#32
  | 1 => 0x3EC4738C#32
  | 2 => 0x3F28712F#32
  | 3 => 0x3FCB33FA#32
  | 4 => 0x3F915E0B#32
  | 5 => 0xBEF40282#32
  | 6 => 0x408738B8#32
  | 7 => 0x40816AB7#32
  | 8 => 0x408DC872#32
  | 9 => 0xBEF60B0C#32
  | 10 => 0xBEA9125A#32
  | 11 => 0x3DA0A24A#32
  | 12 => 0xC0021EA9#32
  | 13 => 0x3F2878F4#32
  | 14 => 0xBF783919#32
  | 15 => 0x3F9A5434#32
  | 16 => 0xBEFB4098#32
  | 17 => 0x3E173ED2#32
  | 18 => 0x402E90F4#32
  | 19 => 0xBDD26245#32
  | 20 => 0xBF2B78FD#32
  | 21 => 0x400A245C#32
  | 22 => 0x3FC1CF9C#32
  | 23 => 0x3FBA4907#32
  | 24 => 0xBF934B12#32
  | 25 => 0xBF001440#32
  | 26 => 0x3F9E6CA4#32
  | 27 => 0xBF8D2CE2#32
  | 28 => 0x3F8D24F2#32
  | 29 => 0x3FDE9EFE#32
  | 30 => 0x3B92B5F4#32
  | 31 => 0x3F7CE974#32
  | 32 => 0x3EF43862#32
  | 33 => 0xBF14D24A#32
  | 34 => 0x3F8D7F4A#32
  | 35 => 0x3F4FC7E7#32
  | 36 => 0x3EDF0C27#32
  | 37 => 0x3F2B45CD#32
  | 38 => 0xBCD28BA1#32
  | 39 => 0x3F7E8820#32
  | 40 => 0x400AA634#32
  | 41 => 0xBF5B1E30#32
  | 42 => 0xBE68FD45#32
  | 43 => 0x3E7C282D#32
  | 44 => 0xBF8A694D#32
  | 45 => 0x3F5AC93C#32
  | 46 => 0x3FDB6060#32
  | 47 => 0xBF91B802#32
  | 48 => 0xBE912E2D#32
  | 49 => 0x3F4891CA#32
  | 50 => 0xBF3B9B5D#32
  | 51 => 0x3F4096DC#32
  | 52 => 0x3FFF3925#32
  | 53 => 0xBDCC906C#32
  | 54 => 0xBE9136A6#32
  | 55 => 0xBF9F818A#32
  | 56 => 0x3F275047#32
  | 57 => 0xBD2B3876#32
  | 58 => 0x3D218BDC#32
  | 59 => 0x403890A9#32
  | 60 => 0x3EAAE104#32
  | 61 => 0xBF856B1B#32
  | 62 => 0x3F971720#32
  | 63 => 0x3F377012#32
  | 64 => 0x4007E3D0#32
  | 65 => 0x3C6A99F0#32
  | 66 => 0xBE5DDAD0#32
  | 67 => 0xBD619F38#32
  | 68 => 0xBF3B1DD3#32
  | 69 => 0x40B4FDC4#32
  | 70 => 0x403BA7CC#32
  | 71 => 0x3EE9F606#32
  | 72 => 0xBE778A4A#32
  | 73 => 0x3F08AEAB#32
  | 74 => 0x3FFC87C5#32
  | 75 => 0x3F3BF77F#32
  | 76 => 0x3F7EB260#32
  | 77 => 0xBF115828#32
  | 78 => 0x3FB68A25#32
  | 79 => 0x3E66649F#32
  | 80 => 0x3FD71C5C#32
  | 81 => 0x3FBC06A5#32
  | 82 => 0x3F09F014#32
  | 83 => 0x3E34FE01#32
  | 84 => 0x402B7E16#32
  | 85 => 0x3FD5A7AC#32
  | 86 => 0xBEC9A4AA#32
  | 87 => 0x407BA3E3#32
  | 88 => 0x3F95A33B#32
  | 89 => 0x3FEFF15C#32
  | 90 => 0xBF92142E#32
  | 91 => 0xBF05F52E#32
  | 92 => 0xBF09A050#32
  | 93 => 0x3F893638#32
  | 94 => 0xBEA6674A#32
  | 95 => 0x3EC01AE7#32
  | 96 => 0x3F0B85F6#32
  | 97 => 0x40066795#32
  | 98 => 0x3EF72690#32
  | 99 => 0x3FA6DC98#32
  | 100 => 0xBE61958E#32
  | 101 => 0x3FCBC678#32
  | 102 => 0xBFFA2A94#32
  | 103 => 0xBF4DA209#32
  | 104 => 0xBF72D7CF#32
  | 105 => 0x3EED9AE7#32
  | 106 => 0xBF8DB138#32
  | 107 => 0x3F35D3F2#32
  | 108 => 0xBF87D060#32
  | 109 => 0x402B1E97#32
  | 110 => 0xBEB3CB0B#32
  | 111 => 0x3FE2F02B#32
  | 112 => 0x3F2BE654#32
  | 113 => 0x3FC2F678#32
  | 114 => 0x3E90EC98#32
  | 115 => 0x3F4DC28C#32
  | 116 => 0x3EBA1D81#32
  | 117 => 0xBF9F2B26#32
  | 118 => 0xBFAC53A8#32
  | 119 => 0x3FD7E50F#32
  | 120 => 0x3FDD08B6#32
  | 121 => 0xBFABBA13#32
  | 122 => 0x3DCBF19A#32
  | 123 => 0xBB67971F#32
  | 124 => 0xBF78484A#32
  | 125 => 0x3FA886E2#32
  | 126 => 0xBF5357AA#32
  | 127 => 0x3FFD3463#32
  | _ => 0#32

noncomputable abbrev lit0t0_387 (i : Nat) : BitVec 32 := match i % 128 with
  | 0 => 0xBFA7607F#32
  | 1 => 0x3DF5C831#32
  | 2 => 0x3F833E44#32
  | 3 => 0x408585D2#32
  | 4 => 0x3F15A9F7#32
  | 5 => 0x4081EABE#32
  | 6 => 0x3F1BEF73#32
  | 7 => 0x3FB19977#32
  | 8 => 0xBEC849F7#32
  | 9 => 0xBFA2C0C0#32
  | 10 => 0xBE3D914A#32
  | 11 => 0x3FFAD289#32
  | 12 => 0x3E9D852D#32
  | 13 => 0x3FE17169#32
  | 14 => 0xBF3B2FF3#32
  | 15 => 0x40090BD6#32
  | 16 => 0xBF17DC14#32
  | 17 => 0x4087841D#32
  | 18 => 0xBE019EFE#32
  | 19 => 0xBE6621A8#32
  | 20 => 0x3E14EA75#32
  | 21 => 0x3E11C78F#32
  | 22 => 0x3F7AC842#32
  | 23 => 0xBF6E6E40#32
  | 24 => 0x3EB3F03B#32
  | 25 => 0x3F0DA8CF#32
  | 26 => 0x3DA0245E#32
  | 27 => 0xBD678B18#32
  | 28 => 0x40001B6D#32
  | 29 => 0x3ECE5E4F#32
  | 30 => 0x3F5EA2EB#32
  | 31 => 0xBF10BB58#32
  | 32 => 0xBE765012#32
  | 33 => 0xBFC657CE#32
  | 34 => 0x3FCA2438#32
  | 35 => 0xBF8773AE#32
  | 36 => 0x3FE36612#32
  | 37 => 0x3EEFAB74#32
  | 38 => 0x3E6DA3F0#32
  | 39 => 0x3F853AD4#32
  | 40 => 0x3FC0FD76#32
  | 41 => 0x3FCE6974#32
  | 42 => 0xBE469728#32
  | 43 => 0x408E453A#32
  | 44 => 0x3E5D0707#32
  | 45 => 0xBC3D5757#32
  | 46 => 0xBE9D93D2#32
  | 47 => 0x4044753A#32
  | 48 => 0x3F5BE840#32
  | 49 => 0x3FF6CF85#32
  | 50 => 0x3E97DF30#32
  | 51 => 0x3F7BAF32#32
  | 52 => 0x3F98EB37#32
  | 53 => 0x3F412F72#32
  | 54 => 0xBFAADEC5#32
  | 55 => 0xBEB01DEE#32
  | 56 => 0xBF23EFD2#32
  | 57 => 0xBE7C62C3#32
  | 58 => 0xBC0D06AD#32
  | 59 => 0x3FAD6F30#32
  | 60 => 0x4032C986#32
  | 61 => 0xBF193AD9#32
  | 62 => 0x3EEF65EA#32
  | 63 => 0x3F352757#32
  | 64 => 0xBEBECCD0#32
  | 65 => 0x3F82664F#32
  | 66 => 0x3FB74E86#32
  | 67 => 0xBEB5271C#32
  | 68 => 0x3E82E3F6#32
  | 69 => 0x3E14AFAF#32
  | 70 => 0x3EE603BF#32
  | 71 => 0x3E919D52#32
  | 72 => 0xBF037920#32
  | 73 => 0x402B631E#32
  | 74 => 0x3FB8353A#32
  | 75 => 0x3F86BEA0#32
  | 76 => 0x408E372A#32
  | 77 => 0x3ECA03E5#32
  | 78 => 0xBEBC0140#32
  | 79 => 0x3C25F025#32
  | 80 => 0x4018F33A#32
  | 81 => 0xBF0B9565#32
  | 82 => 0x401223F3#32
  | 83 => 0xBF3C12F6#32
  | 84 => 0x3E34A8BB#32
  | 85 => 0x3FBDAA28#32
  | 86 => 0x407BFE3D#32
  | 87 => 0xBEEC701A#32
  | 88 => 0xBF9CCABE#32
  | 89 => 0xBDE9A92A#32
  | 90 => 0x3F56C9C1#32
  | 91 => 0x406CC0FF#32
  | 92 => 0x40245136#32
  | 93 => 0xBDCD91ED#32
  | 94 => 0x3E86438E#32
  | 95 => 0x3F8B1718#32
  | 96 => 0xBE62F880#32
  | 97 => 0x3EDDC1CF#32
  | 98 => 0x4051BDC2#32
  | 99 => 0x3E46D3FB#32
  | 100 => 0x3F2BEF2C#32
  | 101 => 0xBE59853B#32
  | 102 => 0xBE5E088E#32
  | 103 => 0xBEE6C2E7#32
  | 104 => 0xBEE17198#32
  | 105 => 0x3F49AE67#32
  | 106 => 0x3F984E50#32
  | 107 => 0x3FB2FD67#32
  | 108 => 0xBE403E91#32
  | 109 => 0x3D8A77E9#32
  | 110 => 0x400C1793#32
  | 111 => 0xBF59557E#32
  | 112 => 0x3EAD4042#32
  | 113 => 0x3DE167FA#32
  | 114 => 0xBF13A82F#32
  | 115 => 0xBD8F3CD3#32
  | 116 => 0x4040627F#32
  | 117 => 0x40219A6E#32
  | 118 => 0x3F3D17B4#32
  | 119 => 0x3E63C6B5#32
  | 120 => 0xBFAF07E1#32
  | 121 => 0xBE3B5F87#32
  | 122 => 0xBE513C73#32
  | 123 => 0x4059B815#32
  | 124 => 0x3FC93DC1#32
  | 125 => 0xBF93F71C#32
  | 126 => 0xBD1B04BA#32
  | 127 => 0xBF6E4BA2#32
  | _ => 0#32

noncomputable abbrev lit0t0_388 (i : Nat) : BitVec 32 := match i % 128 with
  | 0 => 0x3D7AF12B#32
  | 1 => 0x3E75C83C#32
  | 2 => 0xBDFAB2D4#32
  | 3 => 0x4062F4AE#32
  | 4 => 0x3F07049A#32
  | 5 => 0x3CA1B114#32
  | 6 => 0x3FEE6878#32
  | 7 => 0x3EDCA86E#32
  | 8 => 0xBF192F02#32
  | 9 => 0x3E1D964A#32
  | 10 => 0xBF1DAB9B#32
  | 11 => 0x3F8EB234#32
  | 12 => 0x3F68959A#32
  | 13 => 0x3FB767FF#32
  | 14 => 0xBF8CA13E#32
  | 15 => 0x3FC5CD7C#32
  | 16 => 0xBF0EF13C#32
  | 17 => 0x3FD50934#32
  | 18 => 0xBFFF0CE2#32
  | 19 => 0xBD401A28#32
  | 20 => 0x3FE6B1A0#32
  | 21 => 0xBF830AAE#32
  | 22 => 0x3F3F0F5C#32
  | 23 => 0x3C1860D7#32
  | 24 => 0xBE886FD8#32
  | 25 => 0x3F62176A#32
  | 26 => 0x3EAD6D24#32
  | 27 => 0x3F9F9515#32
  | 28 => 0xBF39A7A7#32
  | 29 => 0xBF3C02DF#32
  | 30 => 0xBF8131EF#32
  | 31 => 0xBE839872#32
  | 32 => 0x3E629655#32
  | 33 => 0x3F8687AD#32
  | 34 => 0xBD8B6FAB#32
  | 35 => 0xBE994C54#32
  | 36 => 0x3FF581EE#32
  | 37 => 0x3F9581F6#32
  | 38 => 0x4043F834#32
  | 39 => 0x3F9B67E0#32
  | 40 => 0x40414CED#32
  | 41 => 0xBF5747B2#32
  | 42 => 0x4056C0B2#32
  | 43 => 0x3E8364FF#32
  | 44 => 0xBF508CAC#32
  | 45 => 0x3F1FAC8A#32
  | 46 => 0x3FC5D0AE#32
  | 47 => 0xBEAFEC3B#32
  | 48 => 0x3FB5F721#32
  | 49 => 0x3E808BB3#32
  | 50 => 0xBF24EDF8#32
  | 51 => 0xBEFAB042#32
  | 52 => 0xBFAE3E8D#32
  | 53 => 0x3D2A5C86#32
  | 54 => 0x3FCA7BDA#32
  | 55 => 0x40602144#32
  | 56 => 0xBEAE274A#32
  | 57 => 0x3F806EFC#32
  | 58 => 0x3F9AA84B#32
  | 59 => 0x3F933345#32
  | 60 => 0xBFAD8190#32
  | 61 => 0x3F775C66#32
  | 62 => 0x3EFF59B0#32
  | 63 => 0x3F83C473#32
  | 64 => 0x3DC9A76F#32
  | 65 => 0xBEA4BE46#32
  | 66 => 0xBE93FD8E#32
  | 67 => 0x40AE17BA#32
  | 68 => 0x4041B8F6#32
  | 69 => 0x3F95D296#32
  | 70 => 0xBF9CB190#32
  | 71 => 0xBDBA0A3D#32
  | 72 => 0xBEAEC801#32
  | 73 => 0x3FCF709C#32
  | 74 => 0x3F01E696#32
  | 75 => 0xBF08A94E#32
  | 76 => 0xBF84224C#32
  | 77 => 0x3EE67A9C#32
  | 78 => 0x3FD2FFBE#32
  | 79 => 0x40143EFE#32
  | 80 => 0x3FB19B46#32
  | 81 => 0x3EB9053F#32
  | 82 => 0xBF071974#32
  | 83 => 0x3F9ECD4E#32
  | 84 => 0x3FA4B823#32
  | 85 => 0x402438D3#32
  | 86 => 0x3F17DFEA#32
  | 87 => 0xBE7F3A1D#32
  | 88 => 0x3F29D885#32
  | 89 => 0xBED84FD3#32
  | 90 => 0x3F0598FA#32
  | 91 => 0xBFD8088E#32
  | 92 => 0x3E87B600#32
  | 93 => 0x3FCA318B#32
  | 94 => 0x4099CDCA#32
  | 95 => 0xBEF9F2BE#32
  | 96 => 0x3FB72FD7#32
  | 97 => 0xBEA23066#32
  | 98 => 0x3F8B23DA#32
  | 99 => 0x3ED54D51#32
  | 100 => 0x3C9A91F9#32
  | 101 => 0x3FFB6F23#32
  | 102 => 0x3FC0AFAA#32
  | 103 => 0x3FBFF44A#32
  | 104 => 0x3E7FBE05#32
  | 105 => 0xBE908F18#32
  | 106 => 0x3ED3DE2F#32
  | 107 => 0x3E41BBC0#32
  | 108 => 0xBF5E3EAC#32
  | 109 => 0xBEAC2882#32
  | 110 => 0xBE9D20D5#32
  | 111 => 0x3F7D6425#32
  | 112 => 0xBF8B9B2A#32
  | 113 => 0x40A8A3A4#32
  | 114 => 0x3F413897#32
  | 115 => 0x3E6A6F6E#32
  | 116 => 0xBF02A37C#32
  | 117 => 0x3F5CB26C#32
  | 118 => 0x3FD8EA64#32
  | 119 => 0x3F89366D#32
  | 120 => 0x3E699BDC#32
  | 121 => 0xBECD81FD#32
  | 122 => 0x3FC12075#32
  | 123 => 0x3FAA0EEC#32
  | 124 => 0x40092821#32
  | 125 => 0x3FEC8821#32
  | 126 => 0xBF5F890E#32
  | 127 => 0xBEBF2085#32
  | _ => 0#32

noncomputable abbrev lit0t0_389 (i : Nat) : BitVec 32 := match i % 128 with
  | 0 => 0x3ECAB054#32
  | 1 => 0x40180EFA#32
  | 2 => 0xBE7559DF#32
  | 3 => 0x3F693497#32
  | 4 => 0x3FCFB9E6#32
  | 5 => 0x3FA96BB9#32
  | 6 => 0x3C2BC73A#32
  | 7 => 0x3F701B93#32
  | 8 => 0x3E913BE5#32
  | 9 => 0xBF182767#32
  | 10 => 0xBF0251CB#32
  | 11 => 0xBF864C82#32
  | 12 => 0x3FB1DF76#32
  | 13 => 0x3F95ACE8#32
  | 14 => 0x403544F7#32
  | 15 => 0x3F812475#32
  | 16 => 0x3F0DCEA5#32
  | 17 => 0x3F6991E5#32
  | 18 => 0xBF3CFBF7#32
  | 19 => 0x3F125E9E#32
  | 20 => 0xBF1933E1#32
  | 21 => 0xBF9E0F3B#32
  | 22 => 0xBE8E7B8E#32
  | 23 => 0x40177381#32
  | 24 => 0x4117D843#32
  | 25 => 0x3F22ABD8#32
  | 26 => 0x3FE8F308#32
  | 27 => 0x3EFCD640#32
  | 28 => 0x3EB93B71#32
  | 29 => 0xBF843F1D#32
  | 30 => 0x3F24F473#32
  | 31 => 0xBF2BFB01#32
  | 32 => 0x3CDF3C62#32
  | 33 => 0x3F102380#32
  | 34 => 0x3F909A97#32
  | 35 => 0xBE5535DF#32
  | 36 => 0x3E758248#32
  | 37 => 0x408C5D65#32
  | 38 => 0xBE0D9148#32
  | 39 => 0x3EEA390C#32
  | 40 => 0xBEF970D0#32
  | 41 => 0xBF43402E#32
  | 42 => 0x3FA4E976#32
  | 43 => 0x3F9934B8#32
  | 44 => 0x3F43F1F8#32
  | 45 => 0x3F9E2F1C#32
  | 46 => 0xBEB79D74#32
  | 47 => 0x3FAEECA6#32
  | 48 => 0x3FE37738#32
  | 49 => 0xBD8E1EB8#32
  | 50 => 0x40A188AA#32
  | 51 => 0x3ECBE410#32
  | 52 => 0x3FFB75BE#32
  | 53 => 0xBF191480#32
  | 54 => 0x3F889511#32
  | 55 => 0x3F105A74#32
  | 56 => 0xBEA344B2#32
  | 57 => 0x3F190EF3#32
  | 58 => 0x3D3376D1#32
  | 59 => 0x3F53B481#32
  | 60 => 0xBF6BFA35#32
  | 61 => 0x3F2B3CBE#32
  | 62 => 0xBE74A2D2#32
  | 63 => 0x3F99EC2D#32
  | 64 => 0xBFA61AFD#32
  | 65 => 0x400321F4#32
  | 66 => 0xBF5F31ED#32
  | 67 => 0x3F5551CB#32
  | 68 => 0x3FDABC2C#32
  | 69 => 0x3F91305A#32
  | 70 => 0xBF438CC4#32
  | 71 => 0x3FDF7C7A#32
  | 72 => 0x3FB8ED59#32
  | 73 => 0x3EAA6E0E#32
  | 74 => 0xBF8F806B#32
  | 75 => 0x3F476A58#32
  | 76 => 0x3F4037D8#32
  | 77 => 0xBDEFF55B#32
  | 78 => 0xBF583C10#32
  | 79 => 0x3FD3AE25#32
  | 80 => 0xBE3EEEEF#32
  | 81 => 0x3FE63786#32
  | 82 => 0xBF1117EB#32
  | 83 => 0xBF4FE84E#32
  | 84 => 0xBF5E216B#32
  | 85 => 0xBFA001E0#32
  | 86 => 0x3F919AEE#32
  | 87 => 0x3EB3CA7D#32
  | 88 => 0xBF946FC9#32
  | 89 => 0x3EF03B9C#32
  | 90 => 0xBF7C9B5A#32
  | 91 => 0x3F50F625#32
  | 92 => 0xBD5C4F10#32
  | 93 => 0x40125A17#32
  | 94 => 0x3FC6C1D1#32
  | 95 => 0x3F0C937A#32
  | 96 => 0x3CD18122#32
  | 97 => 0xBFC91DFC#32
  | 98 => 0xBE1CDE67#32
  | 99 => 0x3FDDEE34#32
  | 100 => 0xBD5B3409#32
  | 101 => 0xBE68A3E5#32
  | 102 => 0xBF5E462C#32
  | 103 => 0xBE7966F4#32
  | 104 => 0xBE68A966#32
  | 105 => 0x3F06FA11#32
  | 106 => 0x3F121DFE#32
  | 107 => 0x3F91D1CF#32
  | 108 => 0x3E89DB5C#32
  | 109 => 0x403489F9#32
  | 110 => 0x3F705041#32
  | 111 => 0xBFA6B227#32
  | 112 => 0x3DF42D20#32
  | 113 => 0x3F8D0441#32
  | 114 => 0x3EA5C64A#32
  | 115 => 0x400C84B4#32
  | 116 => 0xBF5DA905#32
  | 117 => 0x3F9DEA4C#32
  | 118 => 0xBE926D4A#32
  | 119 => 0x3EF729B6#32
  | 120 => 0x3F2CA303#32
  | 121 => 0x3F3239DF#32
  | 122 => 0x3E8D56DB#32
  | 123 => 0xBF9D7D51#32
  | 124 => 0xBDFDBC41#32
  | 125 => 0x4011B3D8#32
  | 126 => 0xBF099963#32
  | 127 => 0x3FB05798#32
  | _ => 0#32

noncomputable abbrev lit0t0_390 (i : Nat) : BitVec 32 := match i % 128 with
  | 0 => 0x3F7254F7#32
  | 1 => 0xBECD4844#32
  | 2 => 0x4051981F#32
  | 3 => 0xBF66CD7E#32
  | 4 => 0x3F988731#32
  | 5 => 0x3EF47E14#32
  | 6 => 0x3D9993E7#32
  | 7 => 0x3EF80F6E#32
  | 8 => 0x3F28E5A7#32
  | 9 => 0xBE594CBF#32
  | 10 => 0x3E0F151F#32
  | 11 => 0x3E8B10FE#32
  | 12 => 0xBE6D3C8C#32
  | 13 => 0x3FC2C8B4#32
  | 14 => 0xBF0391B8#32
  | 15 => 0x3E79681D#32
  | 16 => 0xBEBFFD3C#32
  | 17 => 0xBEE68C31#32
  | 18 => 0x3F52FCAB#32
  | 19 => 0xBF56DF47#32
  | 20 => 0x3F1A9100#32
  | 21 => 0xBF3AE08D#32
  | 22 => 0xBF087FCA#32
  | 23 => 0xBFA6B86A#32
  | 24 => 0x3E9E6D65#32
  | 25 => 0xBEAF5CB0#32
  | 26 => 0x3E7CCA3B#32
  | 27 => 0xBEC8F309#32
  | 28 => 0x4089EFF6#32
  | 29 => 0x3F29C095#32
  | 30 => 0x3FAFCABF#32
  | 31 => 0x4031262F#32
  | 32 => 0xBF8F2E63#32
  | 33 => 0x3ECA6812#32
  | 34 => 0x3DBB7CAD#32
  | 35 => 0xBE22EA5D#32
  | 36 => 0xBD5B0B84#32
  | 37 => 0x3DD9A67B#32
  | 38 => 0x3D965EAB#32
  | 39 => 0xBFB591FF#32
  | 40 => 0xBE4A31EA#32
  | 41 => 0x3E242F43#32
  | 42 => 0xBE0E01AF#32
  | 43 => 0x3F4F5416#32
  | 44 => 0x3F9AD7EB#32
  | 45 => 0xBF8219DE#32
  | 46 => 0x3BA2C957#32
  | 47 => 0x3E676669#32
  | 48 => 0xBF4501EB#32
  | 49 => 0xBE7B9E92#32
  | 50 => 0xBFAB4A96#32
  | 51 => 0x3E9774E3#32
  | 52 => 0x403732C5#32
  | 53 => 0x404B80CD#32
  | 54 => 0x3EFB12FA#32
  | 55 => 0xBFA46CBE#32
  | 56 => 0x402F0D5C#32
  | 57 => 0xBD9C215E#32
  | 58 => 0xBD23B5F2#32
  | 59 => 0x3F1FA657#32
  | 60 => 0xBF93E915#32
  | 61 => 0x3FF023E3#32
  | 62 => 0x3EA9B353#32
  | 63 => 0x3F2BD3CC#32
  | 64 => 0x3F65960A#32
  | 65 => 0x3EC729E8#32
  | 66 => 0x3F3ACA09#32
  | 67 => 0x409B4AF9#32
  | 68 => 0xBEBD20FF#32
  | 69 => 0x3FBD2F08#32
  | 70 => 0x3F3BF40C#32
  | 71 => 0xBF209008#32
  | 72 => 0x3EA6EDA2#32
  | 73 => 0x3F36798C#32
  | 74 => 0x402C9EC5#32
  | 75 => 0xBF2D8B21#32
  | 76 => 0x3CE1341C#32
  | 77 => 0xBF80226A#32
  | 78 => 0xBF09DF55#32
  | 79 => 0xBDF5CA6D#32
  | 80 => 0xBF8065A3#32
  | 81 => 0xBF208D82#32
  | 82 => 0xBF207B01#32
  | 83 => 0xBEDD698C#32
  | 84 => 0xBF6D58C1#32
  | 85 => 0x40878A9D#32
  | 86 => 0x3FA8B097#32
  | 87 => 0xBEDA268A#32
  | 88 => 0xBF392F1D#32
  | 89 => 0x407EA512#32
  | 90 => 0x3F0B407D#32
  | 91 => 0x3EAE988D#32
  | 92 => 0xBE56E2C1#32
  | 93 => 0x3F44F330#32
  | 94 => 0x3FBCD7E8#32
  | 95 => 0x403BDD9F#32
  | 96 => 0xBE503F29#32
  | 97 => 0xBEF0F70A#32
  | 98 => 0x3E86EEEE#32
  | 99 => 0x3F444996#32
  | 100 => 0xBFAE221C#32
  | 101 => 0x3D85D6E1#32
  | 102 => 0x3E3D25D9#32
  | 103 => 0x3FF5D6C0#32
  | 104 => 0x3F60446F#32
  | 105 => 0xBE250F18#32
  | 106 => 0xBF2E8795#32
  | 107 => 0x3CCA763D#32
  | 108 => 0x3F06C954#32
  | 109 => 0x3ED88DE5#32
  | 110 => 0x3DBEE396#32
  | 111 => 0x4011A5B3#32
  | 112 => 0xBEDD36CD#32
  | 113 => 0x3F44B441#32
  | 114 => 0x3F8D97C3#32
  | 115 => 0xBF0A27EB#32
  | 116 => 0x3FBD5AD0#32
  | 117 => 0x3EA48F28#32
  | 118 => 0xBF825C6E#32
  | 119 => 0x3EE233DB#32
  | 120 => 0x3DA92775#32
  | 121 => 0xBF60F066#32
  | 122 => 0x3FC1FF68#32
  | 123 => 0xBF4132EB#32
  | 124 => 0x3F58C6CD#32
  | 125 => 0xBE265516#32
  | 126 => 0xBE8AB3CE#32
  | 127 => 0xBE69A869#32
  | _ => 0#32

noncomputable abbrev lit0t0_391 (i : Nat) : BitVec 32 := match i % 128 with
  | 0 => 0xBEFEC90E#32
  | 1 => 0x3FD635C7#32
  | 2 => 0xBF174422#32
  | 3 => 0x3EFB89AA#32
  | 4 => 0x3EC7E86D#32
  | 5 => 0x3F5CF215#32
  | 6 => 0xBDA541F5#32
  | 7 => 0x3CF22785#32
  | 8 => 0xBEFE9E32#32
  | 9 => 0xBEE92B81#32
  | 10 => 0xBF01652B#32
  | 11 => 0x3CA460E2#32
  | 12 => 0x3F8E5213#32
  | 13 => 0x3F4EE318#32
  | 14 => 0xBEACE7FC#32
  | 15 => 0x3F6F2B13#32
  | 16 => 0xBF01D48A#32
  | 17 => 0x3EBB519D#32
  | 18 => 0x3EC8466B#32
  | 19 => 0xBE1A0FEC#32
  | 20 => 0x3E98F801#32
  | 21 => 0x3FC91C30#32
  | 22 => 0xBFC5E7D7#32
  | 23 => 0x3FEA793F#32
  | 24 => 0x4073EB9C#32
  | 25 => 0x3F945C7C#32
  | 26 => 0x403FB8F0#32
  | 27 => 0xBF425D99#32
  | 28 => 0x3F8EB69A#32
  | 29 => 0x3D518D24#32
  | 30 => 0xBF53D842#32
  | 31 => 0x3E53049F#32
  | 32 => 0xBF42C61C#32
  | 33 => 0x3E0F747A#32
  | 34 => 0x3E11D5B3#32
  | 35 => 0x3F02BCB2#32
  | 36 => 0x3F492AA8#32
  | 37 => 0xBE93C2A0#32
  | 38 => 0x4009AADE#32
  | 39 => 0x401CF881#32
  | 40 => 0xBF163F46#32
  | 41 => 0x3F6C9197#32
  | 42 => 0xBE913D01#32
  | 43 => 0xBD3FD278#32
  | 44 => 0xBD0A9CA1#32
  | 45 => 0xBF088125#32
  | 46 => 0xBCB10843#32
  | 47 => 0xBE32FCDA#32
  | 48 => 0x3FCBC87E#32
  | 49 => 0x3F69050E#32
  | 50 => 0x3D87F18F#32
  | 51 => 0x3FCAA070#32
  | 52 => 0x3E513002#32
  | 53 => 0xBF8CEFCB#32
  | 54 => 0xBE0A607C#32
  | 55 => 0x3E1707F8#32
  | 56 => 0xBF209F57#32
  | 57 => 0x3EF0383C#32
  | 58 => 0x3EC16926#32
  | 59 => 0x4028686F#32
  | 60 => 0xBDFDDCAA#32
  | 61 => 0xBE80B8C7#32
  | 62 => 0x3E6709C9#32
  | 63 => 0xBF5D5AD6#32
  | 64 => 0x3F5B25A4#32
  | 65 => 0x3FBB3A0B#32
  | 66 => 0x3F38888E#32
  | 67 => 0x3F098AAC#32
  | 68 => 0xBF5362CD#32
  | 69 => 0xBF4C3657#32
  | 70 => 0xBF000153#32
  | 71 => 0xBF6C5251#32
  | 72 => 0x3F930A06#32
  | 73 => 0x3F53EFB7#32
  | 74 => 0x402D1A67#32
  | 75 => 0x3FD6A3C0#32
  | 76 => 0x3CF7A4E9#32
  | 77 => 0x3F811B3B#32
  | 78 => 0x3E335489#32
  | 79 => 0xBF0592DF#32
  | 80 => 0xBF566FA5#32
  | 81 => 0xBF6E8E1E#32
  | 82 => 0xBE9EB824#32
  | 83 => 0xBE6819B8#32
  | 84 => 0xBF4868EC#32
  | 85 => 0xBEB23A7B#32
  | 86 => 0x3E3A1470#32
  | 87 => 0xBF39742D#32
  | 88 => 0x408645D8#32
  | 89 => 0x3E18B333#32
  | 90 => 0x3F54E8E0#32
  | 91 => 0x3F832982#32
  | 92 => 0x403AEF23#32
  | 93 => 0x3D39BFEA#32
  | 94 => 0x3ED9A926#32
  | 95 => 0xBE209833#32
  | 96 => 0x3FEF2ADA#32
  | 97 => 0x40AD1A93#32
  | 98 => 0xBEA2125B#32
  | 99 => 0x3EC767F0#32
  | 100 => 0x3EE4ABAA#32
  | 101 => 0xBEE0D84B#32
  | 102 => 0xBF92E52B#32
  | 103 => 0x3FA128F1#32
  | 104 => 0xBFDEF2BD#32
  | 105 => 0xBF4FA08F#32
  | 106 => 0x407BA431#32
  | 107 => 0xBF30544B#32
  | 108 => 0x3F33305F#32
  | 109 => 0xBE20E8D5#32
  | 110 => 0xBF0D1B1B#32
  | 111 => 0x3FD2BABA#32
  | 112 => 0x3F841218#32
  | 113 => 0xBE451DDC#32
  | 114 => 0x3E85DAFB#32
  | 115 => 0x3E9167DD#32
  | 116 => 0x3FDA80CC#32
  | 117 => 0xBE724E16#32
  | 118 => 0xBE609D28#32
  | 119 => 0x3E8581A9#32
  | 120 => 0x3F71ECC3#32
  | 121 => 0x3E3F3FCD#32
  | 122 => 0x402431F7#32
  | 123 => 0xBEB73849#32
  | 124 => 0xBECA3C8B#32
  | 125 => 0xBF127652#32
  | 126 => 0xBEAA2CD1#32
  | 127 => 0xBDEE2C0A#32
  | _ => 0#32

noncomputable abbrev lit0t0_392 (i : Nat) : BitVec 32 := match i % 128 with
  | 0 => 0x3F5ECD96#32
  | 1 => 0x4097FEEF#32
  | 2 => 0xBF635905#32
  | 3 => 0x3F6BDBCD#32
  | 4 => 0xBF3BA776#32
  | 5 => 0x3F7AC6ED#32
  | 6 => 0x40031F0A#32
  | 7 => 0x3F92E2D8#32
  | 8 => 0x3F45A462#32
  | 9 => 0x3FF8F447#32
  | 10 => 0x3F0B8C12#32
  | 11 => 0x3EDF2011#32
  | 12 => 0x3E99A44C#32
  | 13 => 0xBFAA9646#32
  | 14 => 0xBEC91440#32
  | 15 => 0xBF4ED472#32
  | 16 => 0xBE8EAF52#32
  | 17 => 0x3F61D4AA#32
  | 18 => 0x3F7128D8#32
  | 19 => 0x3F272A96#32
  | 20 => 0x404A7E44#32
  | 21 => 0xBF327D9E#32
  | 22 => 0xBF53DBC1#32
  | 23 => 0x3E73541A#32
  | 24 => 0xBE13BD00#32
  | 25 => 0x3F0E5B3F#32
  | 26 => 0x40D3CE5F#32
  | 27 => 0xBE4D64EA#32
  | 28 => 0x3E59D1C9#32
  | 29 => 0x3E35515D#32
  | 30 => 0x3EB672B4#32
  | 31 => 0x3D117DBA#32
  | 32 => 0x404AE0F4#32
  | 33 => 0xBEEB7CBA#32
  | 34 => 0x3E8BEE24#32
  | 35 => 0xBF5CA8A8#32
  | 36 => 0xBF82248F#32
  | 37 => 0x3F4C1570#32
  | 38 => 0x3F03A699#32
  | 39 => 0x3E6219CF#32
  | 40 => 0x3FD8FBB9#32
  | 41 => 0x40443214#32
  | 42 => 0x4017EC18#32
  | 43 => 0x3FBDDCBC#32
  | 44 => 0x3EA798CB#32
  | 45 => 0x403575B2#32
  | 46 => 0x3F5D39E2#32
  | 47 => 0x3E7ADC88#32
  | 48 => 0xBF50022D#32
  | 49 => 0x3FD07B81#32
  | 50 => 0x3E43EFCA#32
  | 51 => 0xBF85B177#32
  | 52 => 0x3E641213#32
  | 53 => 0x3E856B1A#32
  | 54 => 0x3F4AB2A7#32
  | 55 => 0x3E62A899#32
  | 56 => 0x3FF160BA#32
  | 57 => 0xBF4DDFD9#32
  | 58 => 0xBEE67147#32
  | 59 => 0x3EAAA457#32
  | 60 => 0x3FCAD275#32
  | 61 => 0xBD4E4972#32
  | 62 => 0x3F497B56#32
  | 63 => 0xBF0AA414#32
  | 64 => 0x3F69F950#32
  | 65 => 0x402FD3F6#32
  | 66 => 0x3EEF8018#32
  | 67 => 0x3D080D16#32
  | 68 => 0x3ECFFD3F#32
  | 69 => 0x3DD67E08#32
  | 70 => 0x3FA951A0#32
  | 71 => 0x3F65AB11#32
  | 72 => 0xBE22419F#32
  | 73 => 0xBD074F21#32
  | 74 => 0xBF41EB34#32
  | 75 => 0xBF81350E#32
  | 76 => 0xBED70C07#32
  | 77 => 0xBDCB73BE#32
  | 78 => 0x3FC70C75#32
  | 79 => 0x3F22101E#32
  | 80 => 0x3E112E4A#32
  | 81 => 0xBE32996A#32
  | 82 => 0xBF4C64BD#32
  | 83 => 0xBFB8DE6A#32
  | 84 => 0x3EE4EEB8#32
  | 85 => 0xBE0CAA12#32
  | 86 => 0x3DFF57B0#32
  | 87 => 0x3EF58F58#32
  | 88 => 0xBF00A3AD#32
  | 89 => 0x3E10AB11#32
  | 90 => 0x3D94048D#32
  | 91 => 0xBE7C72EE#32
  | 92 => 0xBF1C22AA#32
  | 93 => 0xBF05C4E9#32
  | 94 => 0x3F492A24#32
  | 95 => 0x3EC3E70E#32
  | 96 => 0x3FE921C0#32
  | 97 => 0x3DBA75CE#32
  | 98 => 0xBCE7E8AC#32
  | 99 => 0xBEC01FCC#32
  | 100 => 0x3FA6EEDF#32
  | 101 => 0x3D6A41D8#32
  | 102 => 0x3EA4170B#32
  | 103 => 0xBF16FDE8#32
  | 104 => 0xBEC98756#32
  | 105 => 0xBF17127A#32
  | 106 => 0x3FEF35DE#32
  | 107 => 0x40101B63#32
  | 108 => 0xBED8A02C#32
  | 109 => 0xBFB3F88F#32
  | 110 => 0x3FC773BE#32
  | 111 => 0x3EFD1B2E#32
  | 112 => 0x3F9DFDEB#32
  | 113 => 0x40571E65#32
  | 114 => 0x3F019B97#32
  | 115 => 0x3F1B5330#32
  | 116 => 0x3FC6C9C7#32
  | 117 => 0x3FC805B0#32
  | 118 => 0xBEAA39F8#32
  | 119 => 0x3FCD1782#32
  | 120 => 0x3EAFC9AC#32
  | 121 => 0x3D800993#32
  | 122 => 0xBEFAA9DB#32
  | 123 => 0x3EB947F6#32
  | 124 => 0x3FE94F9D#32
  | 125 => 0x3E18D701#32
  | 126 => 0x3F69A20E#32
  | 127 => 0x401FD9CD#32
  | _ => 0#32

noncomputable abbrev lit0t0_393 (i : Nat) : BitVec 32 := match i % 128 with
  | 0 => 0x3F49CBF7#32
  | 1 => 0x40021132#32
  | 2 => 0x3F278540#32
  | 3 => 0xBF344681#32
  | 4 => 0xBF994568#32
  | 5 => 0xBF021CF6#32
  | 6 => 0x3FB42D9F#32
  | 7 => 0xBE98F8B1#32
  | 8 => 0x3F097F48#32
  | 9 => 0xBED618B3#32
  | 10 => 0x404E7264#32
  | 11 => 0x3F9AF569#32
  | 12 => 0x403AD574#32
  | 13 => 0xBF685FFD#32
  | 14 => 0x3EDC89FF#32
  | 15 => 0x4092E185#32
  | 16 => 0x3CF3A9CE#32
  | 17 => 0x3F873AD8#32
  | 18 => 0xBE867F0D#32
  | 19 => 0xBF1302C6#32
  | 20 => 0x4077C8D3#32
  | 21 => 0x3F25373C#32
  | 22 => 0xBC72F97C#32
  | 23 => 0x3F7FF282#32
  | 24 => 0x3FD4FB3E#32
  | 25 => 0x3E9CD9F3#32
  | 26 => 0xBE96F341#32
  | 27 => 0x3F9B66D9#32
  | 28 => 0xBF523D80#32
  | 29 => 0x3E9BC42D#32
  | 30 => 0x3F37B1A6#32
  | 31 => 0x3F0B8086#32
  | 32 => 0x4012A6D1#32
  | 33 => 0x3E768360#32
  | 34 => 0xBEE7F3F4#32
  | 35 => 0x3F4C30B4#32
  | 36 => 0xBE1D3B73#32
  | 37 => 0xBD8A51F7#32
  | 38 => 0x405E56FD#32
  | 39 => 0x40B8230F#32
  | 40 => 0xBD8AE6E9#32
  | 41 => 0x3F267B0C#32
  | 42 => 0x3F6E641E#32
  | 43 => 0x3F41DE4A#32
  | 44 => 0x40313260#32
  | 45 => 0xBF4A3B69#32
  | 46 => 0x3E964998#32
  | 47 => 0xBF56EAF5#32
  | 48 => 0x3F5234BE#32
  | 49 => 0x3F8EA459#32
  | 50 => 0x402DD2C0#32
  | 51 => 0x3F8E7373#32
  | 52 => 0x3F8D23B7#32
  | 53 => 0x3F607B04#32
  | 54 => 0x3FDD4096#32
  | 55 => 0x3F6E0AD5#32
  | 56 => 0x3FBE6D32#32
  | 57 => 0xBE61FB7A#32
  | 58 => 0x3FB09142#32
  | 59 => 0x3FA268C8#32
  | 60 => 0xBF908B8B#32
  | 61 => 0xBF0FCC15#32
  | 62 => 0x3F438D44#32
  | 63 => 0x3E5D953B#32
  | 64 => 0x3EA38552#32
  | 65 => 0x3EBAAA60#32
  | 66 => 0x3F7EF48D#32
  | 67 => 0x3F3E5C4F#32
  | 68 => 0x3F104BF2#32
  | 69 => 0xBF895100#32
  | 70 => 0x3C8A1A98#32
  | 71 => 0x400B6D86#32
  | 72 => 0x40612FA8#32
  | 73 => 0xBF365D47#32
  | 74 => 0x3FA8993B#32
  | 75 => 0x3F02C574#32
  | 76 => 0x404ECE35#32
  | 77 => 0x3DC2485F#32
  | 78 => 0xBF47D084#32
  | 79 => 0xBF62719C#32
  | 80 => 0xBF686658#32
  | 81 => 0xBE178D4F#32
  | 82 => 0x3F2704DB#32
  | 83 => 0xBF9ADBCA#32
  | 84 => 0x3F817EA9#32
  | 85 => 0x3FCB2D52#32
  | 86 => 0x3EA5C2BA#32
  | 87 => 0xBFB21D20#32
  | 88 => 0xBFCEE2B3#32
  | 89 => 0xBF330110#32
  | 90 => 0x3ED4F0A3#32
  | 91 => 0xBEF0B4CD#32
  | 92 => 0xBF95CE1F#32
  | 93 => 0x3EEFA176#32
  | 94 => 0xBF847900#32
  | 95 => 0xBF49258E#32
  | 96 => 0x3FCB55D7#32
  | 97 => 0x3F113E46#32
  | 98 => 0xBEC164F0#32
  | 99 => 0x3FC59314#32
  | 100 => 0x3FB742F5#32
  | 101 => 0xBD35A85A#32
  | 102 => 0x3F003C03#32
  | 103 => 0x3FB562B4#32
  | 104 => 0xBE7C0774#32
  | 105 => 0xBE9CD38C#32
  | 106 => 0x3F6AB1B4#32
  | 107 => 0xBE2B72FB#32
  | 108 => 0x3F9A5D0F#32
  | 109 => 0x3FC2476F#32
  | 110 => 0xBF48DB7E#32
  | 111 => 0xBFBD2A1F#32
  | 112 => 0x3F7391DC#32
  | 113 => 0x3E9F9988#32
  | 114 => 0xBF3F1DA7#32
  | 115 => 0x3FB6375C#32
  | 116 => 0xBF0F9408#32
  | 117 => 0xBF6BEBBE#32
  | 118 => 0xBE720F61#32
  | 119 => 0x3F5F9B38#32
  | 120 => 0x400355CC#32
  | 121 => 0x3EEAB9F2#32
  | 122 => 0xBE1847E0#32
  | 123 => 0xBEAA5C0B#32
  | 124 => 0xBF4B5C3E#32
  | 125 => 0x404573C8#32
  | 126 => 0x3FEB7658#32
  | 127 => 0x4010BC87#32
  | _ => 0#32

noncomputable abbrev lit0t0_394 (i : Nat) : BitVec 32 := match i % 128 with
  | 0 => 0x3E3F2F0F#32
  | 1 => 0x3F4A81F2#32
  | 2 => 0xBF3CEE2C#32
  | 3 => 0x40324626#32
  | 4 => 0x3FD372E7#32
  | 5 => 0x3F3DAC6B#32
  | 6 => 0xBEACC5E4#32
  | 7 => 0xBE496AB7#32
  | 8 => 0x400E0798#32
  | 9 => 0xBE685E4B#32
  | 10 => 0x3F3750E5#32
  | 11 => 0x3EC3CA49#32
  | 12 => 0xBEA43A7D#32
  | 13 => 0x3F9AD98E#32
  | 14 => 0xBF8C112E#32
  | 15 => 0x407C969B#32
  | 16 => 0x3F971E0F#32
  | 17 => 0x3F81C31A#32
  | 18 => 0x3E816FB0#32
  | 19 => 0x406F859F#32
  | 20 => 0x3CE66AB6#32
  | 21 => 0xBED25763#32
  | 22 => 0x3D8C1CCE#32
  | 23 => 0x3F387533#32
  | 24 => 0xBEE67DC2#32
  | 25 => 0x3FA22366#32
  | 26 => 0xBE14779E#32
  | 27 => 0x3FA3E934#32
  | 28 => 0x3CD393F9#32
  | 29 => 0x3E8B1B17#32
  | 30 => 0xBF224A09#32
  | 31 => 0x3FB2FC45#32
  | 32 => 0xBF1175C2#32
  | 33 => 0xBE9BFAC9#32
  | 34 => 0x3FC46A46#32
  | 35 => 0xBF847BBC#32
  | 36 => 0x3DCC776D#32
  | 37 => 0x40A72973#32
  | 38 => 0xBE4A0969#32
  | 39 => 0x3ECA8AD4#32
  | 40 => 0x3F206F41#32
  | 41 => 0xBE932902#32
  | 42 => 0x3FB3EA31#32
  | 43 => 0x3D3B5AC5#32
  | 44 => 0xBDDDA391#32
  | 45 => 0x401143A0#32
  | 46 => 0x3CBDC7D1#32
  | 47 => 0x4039C463#32
  | 48 => 0xBF544D71#32
  | 49 => 0x3F015322#32
  | 50 => 0x3F80BFD5#32
  | 51 => 0x40060200#32
  | 52 => 0x3F98D017#32
  | 53 => 0xBF331B20#32
  | 54 => 0x3F51C0C0#32
  | 55 => 0x40052EDC#32
  | 56 => 0x40453489#32
  | 57 => 0xBEA782F1#32
  | 58 => 0xBE78E23B#32
  | 59 => 0x3FAD7007#32
  | 60 => 0xBE0EFFF0#32
  | 61 => 0x3FCF91B8#32
  | 62 => 0xBF657F59#32
  | 63 => 0x3E9F8A18#32
  | 64 => 0x3FA115A1#32
  | 65 => 0xBF7C5C0B#32
  | 66 => 0x3FD22BEA#32
  | 67 => 0x3F9BFC7C#32
  | 68 => 0xBF08D999#32
  | 69 => 0x3EE92FD7#32
  | 70 => 0x3EFDD753#32
  | 71 => 0xBE2B09B5#32
  | 72 => 0x3E1DA096#32
  | 73 => 0xBFD9CFF0#32
  | 74 => 0x3F92F20A#32
  | 75 => 0x3F927A68#32
  | 76 => 0x3EBBD4DA#32
  | 77 => 0xBF149F5E#32
  | 78 => 0xBF0E37E3#32
  | 79 => 0x3FD90F49#32
  | 80 => 0x4070CA56#32
  | 81 => 0x3FAF9EFE#32
  | 82 => 0x4026F1DA#32
  | 83 => 0x3F608056#32
  | 84 => 0x3F43C8ED#32
  | 85 => 0xBF014870#32
  | 86 => 0x4007BA2A#32
  | 87 => 0xBFCA09CD#32
  | 88 => 0xBEA4242E#32
  | 89 => 0x3ECF2DF2#32
  | 90 => 0x3E6587D6#32
  | 91 => 0xBEC7B777#32
  | 92 => 0xBE861C2D#32
  | 93 => 0x3F895B4E#32
  | 94 => 0x3E91552E#32
  | 95 => 0x3FD91F26#32
  | 96 => 0x3EAC14A0#32
  | 97 => 0x3DB3CA0B#32
  | 98 => 0x3F5B25E6#32
  | 99 => 0x40039270#32
  | 100 => 0x401B261C#32
  | 101 => 0x40026C30#32
  | 102 => 0x3F95A469#32
  | 103 => 0x401282E8#32
  | 104 => 0xBF0FA02B#32
  | 105 => 0x3D35A804#32
  | 106 => 0x4019FECD#32
  | 107 => 0xBE03ADC6#32
  | 108 => 0x40802521#32
  | 109 => 0x3FE71E68#32
  | 110 => 0x3F993F49#32
  | 111 => 0xBECAF9F7#32
  | 112 => 0xBEDD7E16#32
  | 113 => 0xBE8DAC5E#32
  | 114 => 0xBCC17BEE#32
  | 115 => 0x3F864350#32
  | 116 => 0x3F9C8A00#32
  | 117 => 0xBF425E5F#32
  | 118 => 0xBE4BEB94#32
  | 119 => 0x3F79FE16#32
  | 120 => 0xBFCF868E#32
  | 121 => 0xBDE212D2#32
  | 122 => 0x3EA33B48#32
  | 123 => 0x3C967941#32
  | 124 => 0x3DFAAB6B#32
  | 125 => 0x401F55C9#32
  | 126 => 0x3F6B2244#32
  | 127 => 0x3EC9BFCF#32
  | _ => 0#32

noncomputable abbrev lit0t0_395 (i : Nat) : BitVec 32 := match i % 128 with
  | 0 => 0x3F8185AD#32
  | 1 => 0xBF229A79#32
  | 2 => 0x3FE70A28#32
  | 3 => 0xBE9D3F2E#32
  | 4 => 0x3E25A56A#32
  | 5 => 0x400D8E39#32
  | 6 => 0x3F40E4A5#32
  | 7 => 0x40AA8227#32
  | 8 => 0xBF408617#32
  | 9 => 0xBF46F230#32
  | 10 => 0xBF81D8A4#32
  | 11 => 0x3F84D0C3#32
  | 12 => 0x3ED6D4A7#32
  | 13 => 0xBF1A329F#32
  | 14 => 0x3E8074A8#32
  | 15 => 0x4005641B#32
  | 16 => 0x3EC89694#32
  | 17 => 0x408E3F7F#32
  | 18 => 0x3F5758D5#32
  | 19 => 0x3D5A05CD#32
  | 20 => 0x3F929456#32
  | 21 => 0x3F8F4DC8#32
  | 22 => 0x3F1DD056#32
  | 23 => 0x3F7AF0CB#32
  | 24 => 0x3F97036F#32
  | 25 => 0x3F10A6FE#32
  | 26 => 0xBEFF7F80#32
  | 27 => 0x3ECF9F9C#32
  | 28 => 0x3F1FEB4A#32
  | 29 => 0x3FF8D9D1#32
  | 30 => 0x3F3CFE9A#32
  | 31 => 0xBEB244B8#32
  | 32 => 0x3F8CFDD8#32
  | 33 => 0xBE845AE4#32
  | 34 => 0x3F7FA3CC#32
  | 35 => 0x3F33B410#32
  | 36 => 0x3F5539B2#32
  | 37 => 0xBE8DF190#32
  | 38 => 0xBF271EDC#32
  | 39 => 0x3FC9AB34#32
  | 40 => 0x3EF9ED26#32
  | 41 => 0xBF7A3F8F#32
  | 42 => 0x3F7EB7A4#32
  | 43 => 0x3FCB244C#32
  | 44 => 0x40674664#32
  | 45 => 0x3F6AE6BC#32
  | 46 => 0x3FF4A1B8#32
  | 47 => 0x3F2C535A#32
  | 48 => 0x3DC21A78#32
  | 49 => 0x3F215E55#32
  | 50 => 0x405E8D3A#32
  | 51 => 0xBE803FB1#32
  | 52 => 0xBF584480#32
  | 53 => 0xBF3BBED7#32
  | 54 => 0x3FAEF344#32
  | 55 => 0xBEB2D389#32
  | 56 => 0x3F99AB42#32
  | 57 => 0xBF5F8D3C#32
  | 58 => 0x3F88903B#32
  | 59 => 0xBF0FDA08#32
  | 60 => 0xBF160287#32
  | 61 => 0xBE87485B#32
  | 62 => 0xBEFAAD3A#32
  | 63 => 0x3FDC6248#32
  | 64 => 0xBF9C385C#32
  | 65 => 0x3DA27B07#32
  | 66 => 0x3F8F09A0#32
  | 67 => 0x3FDD4F62#32
  | 68 => 0x3F89CBD6#32
  | 69 => 0xBFDE7CD4#32
  | 70 => 0x3F318927#32
  | 71 => 0x40CA242C#32
  | 72 => 0x3F8C7BB7#32
  | 73 => 0xBF30470C#32
  | 74 => 0x40002370#32
  | 75 => 0x400CC381#32
  | 76 => 0xBF65D8CC#32
  | 77 => 0xBEBBF2AB#32
  | 78 => 0x3E0E9BB8#32
  | 79 => 0x3F2BCA3D#32
  | 80 => 0x3F9B013B#32
  | 81 => 0xBE995E7D#32
  | 82 => 0xBED4047A#32
  | 83 => 0x3F98D38F#32
  | 84 => 0x3EA95F01#32
  | 85 => 0x3FF62913#32
  | 86 => 0xBE8F1D5D#32
  | 87 => 0x3F91A964#32
  | 88 => 0xBFA979E7#32
  | 89 => 0x3F33C5F8#32
  | 90 => 0xBEDF1830#32
  | 91 => 0xBF2A57FC#32
  | 92 => 0x402A7DC0#32
  | 93 => 0x3ED92444#32
  | 94 => 0xBF304BFD#32
  | 95 => 0xBEB6F901#32
  | 96 => 0xBE197EC1#32
  | 97 => 0x4063BDC1#32
  | 98 => 0xBF9A6DDA#32
  | 99 => 0xBF61B514#32
  | 100 => 0xBF8FC6FD#32
  | 101 => 0xBEE027E1#32
  | 102 => 0xBE486A8F#32
  | 103 => 0xBFDD7047#32
  | 104 => 0x3F2EC35E#32
  | 105 => 0x4010E40E#32
  | 106 => 0x40887E12#32
  | 107 => 0xBE8BC493#32
  | 108 => 0xBD36BE73#32
  | 109 => 0x3ECB0385#32
  | 110 => 0x40368C02#32
  | 111 => 0xBFAF66B8#32
  | 112 => 0xBFA1E816#32
  | 113 => 0x3F8438EF#32
  | 114 => 0x3FE3F286#32
  | 115 => 0xBF139551#32
  | 116 => 0xBF0B6265#32
  | 117 => 0xBF2D1854#32
  | 118 => 0x3F8B93C4#32
  | 119 => 0x4033D0E7#32
  | 120 => 0xBC616FA1#32
  | 121 => 0xB96C3930#32
  | 122 => 0x3F5A5CC4#32
  | 123 => 0xBF1C883A#32
  | 124 => 0xBF916DC7#32
  | 125 => 0xBF292BB5#32
  | 126 => 0x407DAA38#32
  | 127 => 0xBF1449B4#32
  | _ => 0#32

noncomputable abbrev lit0t0_396 (i : Nat) : BitVec 32 := match i % 128 with
  | 0 => 0xBE247B54#32
  | 1 => 0x40D64F9F#32
  | 2 => 0xBE85D2F0#32
  | 3 => 0xBF9B3757#32
  | 4 => 0x400341E4#32
  | 5 => 0x4010D0AD#32
  | 6 => 0x3E1184BF#32
  | 7 => 0x3F94B1F0#32
  | 8 => 0x3FCC02E7#32
  | 9 => 0x3C717F68#32
  | 10 => 0x40A1F56B#32
  | 11 => 0x3E4379BD#32
  | 12 => 0x3F4EAF02#32
  | 13 => 0xBF8BCC12#32
  | 14 => 0xBEF45EBE#32
  | 15 => 0x3D68D4AB#32
  | 16 => 0x3E84C9D2#32
  | 17 => 0x3F231148#32
  | 18 => 0xBD05E159#32
  | 19 => 0x3F84ACB7#32
  | 20 => 0x3F6C3EA8#32
  | 21 => 0x3ECDA0CA#32
  | 22 => 0xBF44D145#32
  | 23 => 0xBF6C55A0#32
  | 24 => 0xBF71B8C8#32
  | 25 => 0x402619A5#32
  | 26 => 0xBE916545#32
  | 27 => 0x3E475EA8#32
  | 28 => 0x3F3B4486#32
  | 29 => 0x40120FE9#32
  | 30 => 0xBEDF2C03#32
  | 31 => 0x3EA7B46D#32
  | 32 => 0xBF96E9F8#32
  | 33 => 0xBF6CCE48#32
  | 34 => 0xBECBD5D7#32
  | 35 => 0xBF71939B#32
  | 36 => 0xBE2E4AA9#32
  | 37 => 0xBECC85BB#32
  | 38 => 0xBF441F75#32
  | 39 => 0xBF7939F7#32
  | 40 => 0x3F33BCAE#32
  | 41 => 0x3F790E44#32
  | 42 => 0x40136608#32
  | 43 => 0x3F4290AB#32
  | 44 => 0xBE2722A5#32
  | 45 => 0x3F4B4DED#32
  | 46 => 0xBF27750B#32
  | 47 => 0x3DEDBAE5#32
  | 48 => 0x3FA05F42#32
  | 49 => 0x3FB1AB90#32
  | 50 => 0x3E188679#32
  | 51 => 0xBF6D5E5E#32
  | 52 => 0x3F669661#32
  | 53 => 0x3EA766A8#32
  | 54 => 0x3D1F53A8#32
  | 55 => 0xBEBC4882#32
  | 56 => 0x3F387AC9#32
  | 57 => 0x3ED4180D#32
  | 58 => 0x3FE067B2#32
  | 59 => 0x4037AE08#32
  | 60 => 0xBFB08CAB#32
  | 61 => 0x400D7A2C#32
  | 62 => 0xBE8F1F23#32
  | 63 => 0x3F63E0C9#32
  | 64 => 0x3F5C5D9E#32
  | 65 => 0x3DE4B56B#32
  | 66 => 0x3FD2C908#32
  | 67 => 0x3EB3144A#32
  | 68 => 0x3DE8E3CF#32
  | 69 => 0xBF1DD1FD#32
  | 70 => 0x3EFFC114#32
  | 71 => 0xBEAB2703#32
  | 72 => 0x3F112EB5#32
  | 73 => 0x3F688AE6#32
  | 74 => 0x3F449E1B#32
  | 75 => 0x3E5ABF30#32
  | 76 => 0x3FAB22AB#32
  | 77 => 0x3FD43029#32
  | 78 => 0x3EEC8677#32
  | 79 => 0xBF13056C#32
  | 80 => 0x3DBB91D7#32
  | 81 => 0xBFA8EF9A#32
  | 82 => 0xBC907503#32
  | 83 => 0xBEADA16B#32
  | 84 => 0x3EA45229#32
  | 85 => 0xBF174381#32
  | 86 => 0xBF11E1FD#32
  | 87 => 0x3FA3BBAE#32
  | 88 => 0x40059623#32
  | 89 => 0xBF34CB4D#32
  | 90 => 0xBF49CE7A#32
  | 91 => 0x3EBD78E0#32
  | 92 => 0x3C9695C6#32
  | 93 => 0xBFA9AFEA#32
  | 94 => 0x3F4F5239#32
  | 95 => 0x3EC1C2D5#32
  | 96 => 0xBE9158CA#32
  | 97 => 0xBE477B47#32
  | 98 => 0x3F5AD65C#32
  | 99 => 0xBF1801BE#32
  | 100 => 0x3F5C0402#32
  | 101 => 0x3F6EA24A#32
  | 102 => 0x4005AE81#32
  | 103 => 0x3F36C72E#32
  | 104 => 0x3F55854C#32
  | 105 => 0x3FFE2B96#32
  | 106 => 0x3F9FDC01#32
  | 107 => 0xBFAB602A#32
  | 108 => 0xBEB31CE2#32
  | 109 => 0xBF558974#32
  | 110 => 0x4046E448#32
  | 111 => 0x3FD48F23#32
  | 112 => 0x3D3EA75B#32
  | 113 => 0x3F87EDD4#32
  | 114 => 0x3DFA2675#32
  | 115 => 0x3F6F033B#32
  | 116 => 0x3F0F277B#32
  | 117 => 0x3E718A27#32
  | 118 => 0x3F62E422#32
  | 119 => 0x3F18746C#32
  | 120 => 0xBF724B28#32
  | 121 => 0x3FA75810#32
  | 122 => 0x3EBCC09A#32
  | 123 => 0x3F0E2378#32
  | 124 => 0xBF80FDE2#32
  | 125 => 0x40036EF3#32
  | 126 => 0x3E73B598#32
  | 127 => 0x3DC4C9FC#32
  | _ => 0#32

noncomputable abbrev lit0t0_397 (i : Nat) : BitVec 32 := match i % 128 with
  | 0 => 0x3FA160D3#32
  | 1 => 0xBDF92DFD#32
  | 2 => 0x3FD98583#32
  | 3 => 0x3EAED7E0#32
  | 4 => 0x3FF377CE#32
  | 5 => 0x408F0AA1#32
  | 6 => 0x3F9AB41E#32
  | 7 => 0x3FFAB474#32
  | 8 => 0xBE81568B#32
  | 9 => 0xBEDCDC74#32
  | 10 => 0x3EC7015F#32
  | 11 => 0xBEC91C1A#32
  | 12 => 0x3F4279D2#32
  | 13 => 0xBE183399#32
  | 14 => 0x3F8DE63A#32
  | 15 => 0xBE551660#32
  | 16 => 0x3ED4977F#32
  | 17 => 0xBE42A81F#32
  | 18 => 0x3FB23226#32
  | 19 => 0x3FD1607F#32
  | 20 => 0x3FCF50CD#32
  | 21 => 0x3FAEEE9A#32
  | 22 => 0xBF45BDFA#32
  | 23 => 0xBFCE2114#32
  | 24 => 0x404E0F2E#32
  | 25 => 0x40192F85#32
  | 26 => 0xBE2B73DB#32
  | 27 => 0x3F9FDC39#32
  | 28 => 0x402C91D1#32
  | 29 => 0xBE038634#32
  | 30 => 0xBFAB11EC#32
  | 31 => 0x3F03514D#32
  | 32 => 0x3F0994A0#32
  | 33 => 0x3E36C7D3#32
  | 34 => 0xBE6B99AD#32
  | 35 => 0x3E6A5B3C#32
  | 36 => 0xBF9CDA87#32
  | 37 => 0xBF073148#32
  | 38 => 0x3F7E1560#32
  | 39 => 0xBF513472#32
  | 40 => 0x3E227148#32
  | 41 => 0x4002DD1A#32
  | 42 => 0x3DE2AC57#32
  | 43 => 0x3F9B5D3D#32
  | 44 => 0x3E84B097#32
  | 45 => 0x3D8D975F#32
  | 46 => 0x3F87176A#32
  | 47 => 0x3E90CE53#32
  | 48 => 0xBF62BC9E#32
  | 49 => 0xBF4A7772#32
  | 50 => 0x3FBD0E8E#32
  | 51 => 0x40133F91#32
  | 52 => 0x3D82CDE3#32
  | 53 => 0x3FB7A9B2#32
  | 54 => 0x3E64E7D8#32
  | 55 => 0xBE2812D6#32
  | 56 => 0xBF42D5BF#32
  | 57 => 0x3F896457#32
  | 58 => 0xBFA91450#32
  | 59 => 0x3F3ABA20#32
  | 60 => 0xBF311A74#32
  | 61 => 0x3F49DA59#32
  | 62 => 0x408B259B#32
  | 63 => 0x3EBB0A43#32
  | 64 => 0x409A1101#32
  | 65 => 0xBF0D3D6C#32
  | 66 => 0x3F2BC07B#32
  | 67 => 0x4023BEEA#32
  | 68 => 0x3E6A6199#32
  | 69 => 0xBEE58916#32
  | 70 => 0xBD060C0E#32
  | 71 => 0x3EAEFEF0#32
  | 72 => 0x3EC421B0#32
  | 73 => 0x3F5FEFE9#32
  | 74 => 0xBF60ED31#32
  | 75 => 0x3F2E0247#32
  | 76 => 0xBE9CAE25#32
  | 77 => 0x3F138CED#32
  | 78 => 0xBEC96EF9#32
  | 79 => 0x3F69B750#32
  | 80 => 0x3FCA78D7#32
  | 81 => 0xBF2CD933#32
  | 82 => 0xBF940470#32
  | 83 => 0xBE1348D1#32
  | 84 => 0xBF58487E#32
  | 85 => 0xBEE9991C#32
  | 86 => 0x3FFDB952#32
  | 87 => 0x3E6BFC33#32
  | 88 => 0x4017BF7D#32
  | 89 => 0x3F085378#32
  | 90 => 0x3F67A2BE#32
  | 91 => 0x3FF190DB#32
  | 92 => 0x3FDBE7A2#32
  | 93 => 0xBD9081CD#32
  | 94 => 0xBBADC3D8#32
  | 95 => 0x3DE4F0C1#32
  | 96 => 0x3EFDD8C9#32
  | 97 => 0x40270ABC#32
  | 98 => 0x400BA386#32
  | 99 => 0x3EB5BB02#32
  | 100 => 0xBE5CA0E5#32
  | 101 => 0x3F111FA6#32
  | 102 => 0x3FCD1B8B#32
  | 103 => 0x4039F477#32
  | 104 => 0xBDDDDBFD#32
  | 105 => 0x3FAA4AE0#32
  | 106 => 0x4028126B#32
  | 107 => 0xBFBDA443#32
  | 108 => 0x3E8F8997#32
  | 109 => 0xBEB10D44#32
  | 110 => 0xBE9FCFEA#32
  | 111 => 0xBD4ABDAC#32
  | 112 => 0x3F1684FE#32
  | 113 => 0x3F4690C3#32
  | 114 => 0xBEB38736#32
  | 115 => 0x40820892#32
  | 116 => 0x3F0A197C#32
  | 117 => 0x3F226D8F#32
  | 118 => 0xBC69C6FF#32
  | 119 => 0x3FD34E83#32
  | 120 => 0x3FC3689D#32
  | 121 => 0xBF880081#32
  | 122 => 0xBF98CE64#32
  | 123 => 0xBF069779#32
  | 124 => 0x3FC0FAC0#32
  | 125 => 0x3FDEC587#32
  | 126 => 0x3E96ABC9#32
  | 127 => 0x3E37BB47#32
  | _ => 0#32

noncomputable abbrev lit0t0_398 (i : Nat) : BitVec 32 := match i % 128 with
  | 0 => 0xBF21BA12#32
  | 1 => 0x3E83E678#32
  | 2 => 0x3EBA0879#32
  | 3 => 0x4029663F#32
  | 4 => 0x3F24E204#32
  | 5 => 0x3F4DD064#32
  | 6 => 0xBF825C90#32
  | 7 => 0xBE226939#32
  | 8 => 0x3F1C25E7#32
  | 9 => 0xBF389488#32
  | 10 => 0xBF123D26#32
  | 11 => 0xBD8ACE9D#32
  | 12 => 0xBEA9137A#32
  | 13 => 0x3F4E5EAE#32
  | 14 => 0x3F509534#32
  | 15 => 0xBE020558#32
  | 16 => 0x3F24CD64#32
  | 17 => 0xBBD71CDA#32
  | 18 => 0xBFA5BB3E#32
  | 19 => 0xBF28D1D4#32
  | 20 => 0x3FC96484#32
  | 21 => 0x3D93DD04#32
  | 22 => 0x3F06AD6B#32
  | 23 => 0xBFAA8A51#32
  | 24 => 0xBDE5CE29#32
  | 25 => 0x3E757EB5#32
  | 26 => 0xBFB74CED#32
  | 27 => 0xBEB28685#32
  | 28 => 0xBE77EF92#32
  | 29 => 0x3DC556FC#32
  | 30 => 0x3F0696D0#32
  | 31 => 0x3DB754D8#32
  | 32 => 0x3EC1C623#32
  | 33 => 0x3F8F9089#32
  | 34 => 0x3F46ABED#32
  | 35 => 0xBF32CA4A#32
  | 36 => 0xBEC10E3F#32
  | 37 => 0xBD460F80#32
  | 38 => 0xBF7A943B#32
  | 39 => 0x3ED5FBF2#32
  | 40 => 0x408FFB96#32
  | 41 => 0xBF5302CB#32
  | 42 => 0x4042C1B8#32
  | 43 => 0xBF2671A2#32
  | 44 => 0xBF0E3468#32
  | 45 => 0x3EC5BC63#32
  | 46 => 0x3F2341DE#32
  | 47 => 0xBD38ECB3#32
  | 48 => 0xBEC6A416#32
  | 49 => 0x40262318#32
  | 50 => 0xBD23C178#32
  | 51 => 0x3E79CF7F#32
  | 52 => 0xBE27B1FE#32
  | 53 => 0xBE1F7273#32
  | 54 => 0x404927F8#32
  | 55 => 0x4009D740#32
  | 56 => 0xBF00C33F#32
  | 57 => 0x3F420AD1#32
  | 58 => 0xBF202390#32
  | 59 => 0xBF57AC6C#32
  | 60 => 0x3E8A0D6A#32
  | 61 => 0x3F965621#32
  | 62 => 0x3EE895D4#32
  | 63 => 0x3FBB3963#32
  | 64 => 0x3D3A1F34#32
  | 65 => 0xBF48FE7F#32
  | 66 => 0xBE14F2B7#32
  | 67 => 0x3F79B44A#32
  | 68 => 0xBF34FB60#32
  | 69 => 0x403667B1#32
  | 70 => 0x3F91F295#32
  | 71 => 0xBF11C4EC#32
  | 72 => 0x3FCCA3AF#32
  | 73 => 0xBF14B764#32
  | 74 => 0x3E76B0C3#32
  | 75 => 0x3EB3C9C4#32
  | 76 => 0x40526FA3#32
  | 77 => 0xBF8D8FA2#32
  | 78 => 0x3E94CABD#32
  | 79 => 0x3F716152#32
  | 80 => 0xBFD4DBFC#32
  | 81 => 0x3D9BF033#32
  | 82 => 0x3FF1CC55#32
  | 83 => 0x4051CFC7#32
  | 84 => 0x3FAD83B1#32
  | 85 => 0x402685BB#32
  | 86 => 0x3F931488#32
  | 87 => 0xBE9182A1#32
  | 88 => 0x3FFCAF1C#32
  | 89 => 0x3FB6CAC8#32
  | 90 => 0x3E9C9380#32
  | 91 => 0xBE7F8B09#32
  | 92 => 0xBF044479#32
  | 93 => 0x3EC59E7E#32
  | 94 => 0xBEDC4986#32
  | 95 => 0xBF69A731#32
  | 96 => 0x3F513397#32
  | 97 => 0x3DCA6381#32
  | 98 => 0x3EE55E08#32
  | 99 => 0x40437DD2#32
  | 100 => 0x3F1EFD44#32
  | 101 => 0x40075076#32
  | 102 => 0x3F62210A#32
  | 103 => 0xBDD3D39B#32
  | 104 => 0x3E86DFDA#32
  | 105 => 0xBEDC9754#32
  | 106 => 0xBC5A1D2D#32
  | 107 => 0x3F6AD0A9#32
  | 108 => 0x3E4F3B70#32
  | 109 => 0xBE371943#32
  | 110 => 0xBFB7A9F8#32
  | 111 => 0x3A3F6DE3#32
  | 112 => 0xBE4747B5#32
  | 113 => 0xBEAF35CF#32
  | 114 => 0x3EE2BB80#32
  | 115 => 0xBF11FCBD#32
  | 116 => 0x3F1C540F#32
  | 117 => 0x3D97E7A8#32
  | 118 => 0x3F9627E2#32
  | 119 => 0x3EDB60FA#32
  | 120 => 0x40029703#32
  | 121 => 0xBE2CFAB5#32
  | 122 => 0x3EFFF4AA#32
  | 123 => 0x3E5154E8#32
  | 124 => 0x3F1C35CB#32
  | 125 => 0x3F3C1483#32
  | 126 => 0x4001B50D#32
  | 127 => 0xBEE8FD54#32
  | _ => 0#32

noncomputable abbrev lit0t0_399 (i : Nat) : BitVec 32 := match i % 128 with
  | 0 => 0x401AC8BA#32
  | 1 => 0xBF2ADDD2#32
  | 2 => 0xBE32E8C0#32
  | 3 => 0xBF4E02EA#32
  | 4 => 0x3D06B3BB#32
  | 5 => 0xBDA1714B#32
  | 6 => 0x3F9F87CA#32
  | 7 => 0x3EAD4F24#32
  | 8 => 0xBF388C8B#32
  | 9 => 0x40351399#32
  | 10 => 0x3FB85C85#32
  | 11 => 0xBED3F62C#32
  | 12 => 0x3DA23FE5#32
  | 13 => 0x3F938DED#32
  | 14 => 0xBF2C2804#32
  | 15 => 0xBE8B97AC#32
  | 16 => 0xBEDC624F#32
  | 17 => 0x3E1D257D#32
  | 18 => 0x3F306169#32
  | 19 => 0x3C956F90#32
  | 20 => 0x3DA52EC5#32
  | 21 => 0x3F7DAB58#32
  | 22 => 0x3F269FEF#32
  | 23 => 0x3FCA4E82#32
  | 24 => 0xBF1BD66B#32
  | 25 => 0xBE669A90#32
  | 26 => 0x3FB9C4A2#32
  | 27 => 0x3E907082#32
  | 28 => 0x40181523#32
  | 29 => 0x3F95F98C#32
  | 30 => 0xBF907FF6#32
  | 31 => 0xBE9CF860#32
  | 32 => 0x3F7F1D79#32
  | 33 => 0xBF82FF2D#32
  | 34 => 0x3DDF809A#32
  | 35 => 0x3F713ED5#32
  | 36 => 0xBF80A246#32
  | 37 => 0x3EC1B86A#32
  | 38 => 0xBFA4E755#32
  | 39 => 0xBE8742F8#32
  | 40 => 0x402890E5#32
  | 41 => 0xBE8E6302#32
  | 42 => 0x3FD16932#32
  | 43 => 0x3F4A7843#32
  | 44 => 0xBF206BFA#32
  | 45 => 0xBF214A1F#32
  | 46 => 0x3E83055B#32
  | 47 => 0xBF58D297#32
  | 48 => 0xBECDC900#32
  | 49 => 0xBF2AF27C#32
  | 50 => 0x403516A6#32
  | 51 => 0x3ED1F5FE#32
  | 52 => 0xBF994E68#32
  | 53 => 0xBFB6D6E1#32
  | 54 => 0xBECE264F#32
  | 55 => 0x3FD07A19#32
  | 56 => 0x3F25C594#32
  | 57 => 0x3D33AEF9#32
  | 58 => 0x3E3FEE99#32
  | 59 => 0x3F8BC16A#32
  | 60 => 0x3D5D68D5#32
  | 61 => 0x3F5159C1#32
  | 62 => 0x4051018C#32
  | 63 => 0xBEFEFD5E#32
  | 64 => 0xBF8B20DE#32
  | 65 => 0xBFAC5DAC#32
  | 66 => 0x3FC2CFF0#32
  | 67 => 0x3F2FFB01#32
  | 68 => 0x403A0B07#32
  | 69 => 0x3EEED44D#32
  | 70 => 0x4006B5FE#32
  | 71 => 0xBCD0EA35#32
  | 72 => 0xBDC27667#32
  | 73 => 0xBF6CCF83#32
  | 74 => 0x3FC541C3#32
  | 75 => 0x3F4E7656#32
  | 76 => 0xBE263564#32
  | 77 => 0x3F8594E5#32
  | 78 => 0xBF533652#32
  | 79 => 0x3FAF1D07#32
  | 80 => 0xBF58E632#32
  | 81 => 0x3FFD129C#32
  | 82 => 0x3E587619#32
  | 83 => 0x3F9601CB#32
  | 84 => 0xBF5216BC#32
  | 85 => 0x3FA1B9FC#32
  | 86 => 0x3FBB9239#32
  | 87 => 0x3FA0C5EC#32
  | 88 => 0x3EC520C7#32
  | 89 => 0x3FC79056#32
  | 90 => 0x3FCAC21D#32
  | 91 => 0x3DDEAC40#32
  | 92 => 0xBE83027F#32
  | 93 => 0xBF99B225#32
  | 94 => 0x3F9A9585#32
  | 95 => 0xBF806BA9#32
  | 96 => 0x3DFAF273#32
  | 97 => 0x3F2C2F01#32
  | 98 => 0x3F1DCB52#32
  | 99 => 0xBFB3876C#32
  | 100 => 0x3F642F90#32
  | 101 => 0x3E322E3D#32
  | 102 => 0x3E819169#32
  | 103 => 0x3F250C55#32
  | 104 => 0xBF694172#32
  | 105 => 0xBF2696CA#32
  | 106 => 0xBF39CA08#32
  | 107 => 0x3E14B815#32
  | 108 => 0x3EC99978#32
  | 109 => 0xBEBFC35E#32
  | 110 => 0xBF3F0C40#32
  | 111 => 0x3FBFC9A1#32
  | 112 => 0xBF1CB0DA#32
  | 113 => 0x3FC84625#32
  | 114 => 0x3F3EC69A#32
  | 115 => 0xBF9900B9#32
  | 116 => 0x3D45C4F6#32
  | 117 => 0x3F784B82#32
  | 118 => 0x3FD9B484#32
  | 119 => 0xBE349702#32
  | 120 => 0x3FE3E897#32
  | 121 => 0x3ECDFEAB#32
  | 122 => 0xBDD7BEBB#32
  | 123 => 0xBE130B96#32
  | 124 => 0xBF87025F#32
  | 125 => 0x3F884DEC#32
  | 126 => 0x3FB07B7C#32
  | 127 => 0x3FE719D0#32
  | _ => 0#32

noncomputable abbrev lit0t0_400 (i : Nat) : BitVec 32 := match i % 128 with
  | 0 => 0x3ED0CC4A#32
  | 1 => 0x3DF79F2B#32
  | 2 => 0x4025ABCD#32
  | 3 => 0xBF5E700A#32
  | 4 => 0x3FB7CA9D#32
  | 5 => 0xBF8ECC8F#32
  | 6 => 0xBF531542#32
  | 7 => 0x3D04CA21#32
  | 8 => 0x3F9CA8BD#32
  | 9 => 0x3CB37653#32
  | 10 => 0x3FFB6B96#32
  | 11 => 0xBE21E849#32
  | 12 => 0xBDDCB373#32
  | 13 => 0x3F8DF71C#32
  | 14 => 0xBF6423E0#32
  | 15 => 0xBF72AD94#32
  | 16 => 0x3F0C5802#32
  | 17 => 0x3F5A6F8B#32
  | 18 => 0x409685C0#32
  | 19 => 0xBE9C8FC4#32
  | 20 => 0xBF62900B#32
  | 21 => 0x3E9FDC60#32
  | 22 => 0x3ECB219A#32
  | 23 => 0x3F83C5DF#32
  | 24 => 0xBFF1CAC0#32
  | 25 => 0x3F125D66#32
  | 26 => 0xBEAB8232#32
  | 27 => 0x3FC80158#32
  | 28 => 0x3F84A502#32
  | 29 => 0xBF1728EC#32
  | 30 => 0x3F640F9D#32
  | 31 => 0x3FBD6516#32
  | 32 => 0x40883FE8#32
  | 33 => 0x40A0F6E6#32
  | 34 => 0xBF209A13#32
  | 35 => 0xBF7A7938#32
  | 36 => 0xBEE0C9FE#32
  | 37 => 0x3E5BC095#32
  | 38 => 0x3E7AABA1#32
  | 39 => 0x3E90F247#32
  | 40 => 0x404A7D7E#32
  | 41 => 0xBF5E2D7D#32
  | 42 => 0x3F968232#32
  | 43 => 0x3FD11323#32
  | 44 => 0xBF5DA8FD#32
  | 45 => 0x3F375980#32
  | 46 => 0x400BFD4E#32
  | 47 => 0xBEA7DEA1#32
  | 48 => 0x407141C7#32
  | 49 => 0xBEAAF91F#32
  | 50 => 0x3FAC6C96#32
  | 51 => 0x40AFEA0B#32
  | 52 => 0xBDD5FBA1#32
  | 53 => 0x3ED4F990#32
  | 54 => 0x3F040ED6#32
  | 55 => 0x3EB6CC78#32
  | 56 => 0xBEBE2D76#32
  | 57 => 0x3F5A7228#32
  | 58 => 0xBF124C8C#32
  | 59 => 0x3F990F85#32
  | 60 => 0x3F078914#32
  | 61 => 0xBF996FF3#32
  | 62 => 0x3FE29572#32
  | 63 => 0x3F3ED709#32
  | 64 => 0xBF16ADDD#32
  | 65 => 0x4008E732#32
  | 66 => 0x3F5C42EA#32
  | 67 => 0xBF79054D#32
  | 68 => 0x3FB73071#32
  | 69 => 0xBEEB12BC#32
  | 70 => 0xBF39AB33#32
  | 71 => 0x3F0E8674#32
  | 72 => 0xBF65C948#32
  | 73 => 0x3FBB577B#32
  | 74 => 0xBF12EAC6#32
  | 75 => 0x3F44E6BA#32
  | 76 => 0x3CAE2EF8#32
  | 77 => 0x4000B3C2#32
  | 78 => 0x40863E8A#32
  | 79 => 0x3F239095#32
  | 80 => 0x3F169904#32
  | 81 => 0x3F0952B6#32
  | 82 => 0x3E962D69#32
  | 83 => 0xBF9F8D08#32
  | 84 => 0x3FA5C3DF#32
  | 85 => 0x40841B44#32
  | 86 => 0x3F3843F2#32
  | 87 => 0x3DDDAAEC#32
  | 88 => 0x3F8F213C#32
  | 89 => 0x3D27E1FB#32
  | 90 => 0x3EA01BE4#32
  | 91 => 0x3D2600C4#32
  | 92 => 0x3FB7C623#32
  | 93 => 0x3FEC1835#32
  | 94 => 0xBED07F11#32
  | 95 => 0xBF14E31D#32
  | 96 => 0x40958470#32
  | 97 => 0xBF8A9099#32
  | 98 => 0x3F132307#32
  | 99 => 0x3F6D9726#32
  | 100 => 0x3F4DE184#32
  | 101 => 0x3FAE9933#32
  | 102 => 0x3E2B60B6#32
  | 103 => 0xBE065D7F#32
  | 104 => 0x3F96C6D9#32
  | 105 => 0x3FA15126#32
  | 106 => 0xBF62868D#32
  | 107 => 0xBF219A4F#32
  | 108 => 0x3FE77048#32
  | 109 => 0xBED5D96B#32
  | 110 => 0x3F210518#32
  | 111 => 0x40816393#32
  | 112 => 0x4036E23C#32
  | 113 => 0x3FE4B78C#32
  | 114 => 0x3FAD1F0B#32
  | 115 => 0x3FFA42F0#32
  | 116 => 0xBD87B61D#32
  | 117 => 0x3E75EDA8#32
  | 118 => 0xBEDA7E2D#32
  | 119 => 0xBF55B7D4#32
  | 120 => 0xBD876384#32
  | 121 => 0x3F866B74#32
  | 122 => 0x40272710#32
  | 123 => 0x410A2699#32
  | 124 => 0x3F608418#32
  | 125 => 0xBE85E804#32
  | 126 => 0x3FB0B9AD#32
  | 127 => 0x3F37743E#32
  | _ => 0#32

noncomputable abbrev lit0t0_401 (i : Nat) : BitVec 32 := match i % 128 with
  | 0 => 0xBF7B13BA#32
  | 1 => 0x4006EAD2#32
  | 2 => 0x3E180AEF#32
  | 3 => 0x409EFE04#32
  | 4 => 0x3E4CBA75#32
  | 5 => 0x3EAB3FDC#32
  | 6 => 0x3E65D6CB#32
  | 7 => 0x3EC08AA0#32
  | 8 => 0xBF0A0BDE#32
  | 9 => 0x3FC9F75E#32
  | 10 => 0x3E09D80E#32
  | 11 => 0x3F23DFEC#32
  | 12 => 0xBE717253#32
  | 13 => 0xBF3587EA#32
  | 14 => 0x3E10BC37#32
  | 15 => 0x3C8C4550#32
  | 16 => 0x4085E75D#32
  | 17 => 0xBEE8A784#32
  | 18 => 0x3EB62A20#32
  | 19 => 0xBE17839B#32
  | 20 => 0x3FBC8F04#32
  | 21 => 0x3CCD3D78#32
  | 22 => 0x3FA52E71#32
  | 23 => 0x4020860E#32
  | 24 => 0x3E9E7164#32
  | 25 => 0xBF92A447#32
  | 26 => 0x3ED1C537#32
  | 27 => 0x3EF92A5A#32
  | 28 => 0x3F0AB2ED#32
  | 29 => 0x3F905277#32
  | 30 => 0x4030B2D6#32
  | 31 => 0x3FC3B4E4#32
  | 32 => 0x3EC46CFA#32
  | 33 => 0xBEB2EF62#32
  | 34 => 0xBF6C2C38#32
  | 35 => 0xBDD80ED3#32
  | 36 => 0xBE22DDA0#32
  | 37 => 0x3EF1BF76#32
  | 38 => 0x40A2998C#32
  | 39 => 0x4016D50D#32
  | 40 => 0xBF23C6BB#32
  | 41 => 0x3F7F0E69#32
  | 42 => 0xBE68156F#32
  | 43 => 0xBF3B2A21#32
  | 44 => 0x3F108446#32
  | 45 => 0xBF9863D2#32
  | 46 => 0x3F770E08#32
  | 47 => 0x3FA03EE7#32
  | 48 => 0xBE36D315#32
  | 49 => 0xBF55C76C#32
  | 50 => 0x3FB51388#32
  | 51 => 0x3F61FA79#32
  | 52 => 0xBF9A5DDF#32
  | 53 => 0x3F09A2E0#32
  | 54 => 0x3EDADA6B#32
  | 55 => 0x3E528FA3#32
  | 56 => 0x40903014#32
  | 57 => 0x4024034D#32
  | 58 => 0x40565326#32
  | 59 => 0x3DBC1B80#32
  | 60 => 0x3F135E98#32
  | 61 => 0x3EB03642#32
  | 62 => 0xBF50B1A0#32
  | 63 => 0x3D98CB0D#32
  | 64 => 0x3FB3F8CA#32
  | 65 => 0xBE59D778#32
  | 66 => 0x3F0902F6#32
  | 67 => 0x3FCBC781#32
  | 68 => 0xBEDEAB21#32
  | 69 => 0x3EE5D648#32
  | 70 => 0xBB921189#32
  | 71 => 0x3F2B5612#32
  | 72 => 0x3F8EB406#32
  | 73 => 0xBFB13FA6#32
  | 74 => 0xBFC8210E#32
  | 75 => 0xBF257B6B#32
  | 76 => 0x3F81A4D4#32
  | 77 => 0x40881E98#32
  | 78 => 0x3F72553D#32
  | 79 => 0xBF43FD00#32
  | 80 => 0xBF915EFB#32
  | 81 => 0x3F1EFBCD#32
  | 82 => 0xBECB353C#32
  | 83 => 0x3FBE9B48#32
  | 84 => 0xBF98F9C5#32
  | 85 => 0xBF4FE1E7#32
  | 86 => 0x4023CCD2#32
  | 87 => 0x3E944878#32
  | 88 => 0x3E06CD39#32
  | 89 => 0x3F026F0C#32
  | 90 => 0x3EA010C0#32
  | 91 => 0x40166837#32
  | 92 => 0x3F22B066#32
  | 93 => 0x3FDD39B4#32
  | 94 => 0xBEAC868F#32
  | 95 => 0x3F0F8FF6#32
  | 96 => 0x406AC459#32
  | 97 => 0xBF8CA8C7#32
  | 98 => 0xBEB07960#32
  | 99 => 0xBEA57991#32
  | 100 => 0xBD00E1AF#32
  | 101 => 0x4058D6FD#32
  | 102 => 0x3FC57400#32
  | 103 => 0x3EFCF109#32
  | 104 => 0x3F24D3C2#32
  | 105 => 0xBFCB9FC3#32
  | 106 => 0x4021A2EA#32
  | 107 => 0x3E9DBE3B#32
  | 108 => 0x3F4B2740#32
  | 109 => 0x403BCF0C#32
  | 110 => 0xBF5EA6C2#32
  | 111 => 0x3FA2ED77#32
  | 112 => 0xBF0FCA90#32
  | 113 => 0xBF741E90#32
  | 114 => 0x40085173#32
  | 115 => 0x401ACA0C#32
  | 116 => 0xBF8FAFCC#32
  | 117 => 0xBF0AFC94#32
  | 118 => 0x3F531B9A#32
  | 119 => 0x3EED8AD2#32
  | 120 => 0xBF4D435D#32
  | 121 => 0x400514F9#32
  | 122 => 0x3F811138#32
  | 123 => 0x400684FE#32
  | 124 => 0x400ED0C1#32
  | 125 => 0x3F49EE4E#32
  | 126 => 0xBEF17812#32
  | 127 => 0x3FB7FB57#32
  | _ => 0#32

noncomputable abbrev lit0t0_402 (i : Nat) : BitVec 32 := match i % 128 with
  | 0 => 0x3FBD40F4#32
  | 1 => 0xBF1D419C#32
  | 2 => 0x3FCF9FFB#32
  | 3 => 0x3F0348C6#32
  | 4 => 0xBE938171#32
  | 5 => 0x3EBD8B78#32
  | 6 => 0xBE0132FB#32
  | 7 => 0x401E2C2C#32
  | 8 => 0x3D215DF5#32
  | 9 => 0x3F6DCF5C#32
  | 10 => 0xBE22CFEC#32
  | 11 => 0x4013C27A#32
  | 12 => 0xBF241926#32
  | 13 => 0xBF3A2650#32
  | 14 => 0xBD642A44#32
  | 15 => 0xBF1E5191#32
  | 16 => 0xBF4FF5AB#32
  | 17 => 0xBE12639F#32
  | 18 => 0xBF2D8537#32
  | 19 => 0x3ED85BF9#32
  | 20 => 0x401F3171#32
  | 21 => 0x3EB00777#32
  | 22 => 0x3ECB297A#32
  | 23 => 0x3F2E120D#32
  | 24 => 0x3D6B24DD#32
  | 25 => 0x3F790279#32
  | 26 => 0x3E885927#32
  | 27 => 0xBFB2C4B3#32
  | 28 => 0x3C27393A#32
  | 29 => 0xBF04167D#32
  | 30 => 0xBEE28133#32
  | 31 => 0x3F2EF76D#32
  | 32 => 0x3F09A629#32
  | 33 => 0x3EDA7DE6#32
  | 34 => 0xBEA2604A#32
  | 35 => 0xBEDF109B#32
  | 36 => 0x4025C06A#32
  | 37 => 0x3F11791F#32
  | 38 => 0xBEFB4904#32
  | 39 => 0x3FA653C0#32
  | 40 => 0xBE9C851F#32
  | 41 => 0xBE15FF28#32
  | 42 => 0x3F459C84#32
  | 43 => 0x3FB069A8#32
  | 44 => 0x3EDBECBA#32
  | 45 => 0x4006A833#32
  | 46 => 0x401FDB45#32
  | 47 => 0xBF62ADF4#32
  | 48 => 0x3E00E7AD#32
  | 49 => 0x3F3AB234#32
  | 50 => 0x3F824B4E#32
  | 51 => 0x3F6C6F06#32
  | 52 => 0xBF4E970C#32
  | 53 => 0xBE24A1EA#32
  | 54 => 0x3FECEE91#32
  | 55 => 0xBFDC73F7#32
  | 56 => 0xBFB03FF9#32
  | 57 => 0x3EDABD1E#32
  | 58 => 0x402B5BB8#32
  | 59 => 0xBE77A238#32
  | 60 => 0x3F331EA4#32
  | 61 => 0x3EF2F076#32
  | 62 => 0xBF84721F#32
  | 63 => 0x3F3B0364#32
  | 64 => 0xBED72ABD#32
  | 65 => 0x3F2C5600#32
  | 66 => 0x3FB0165B#32
  | 67 => 0x400D11F7#32
  | 68 => 0xBF222934#32
  | 69 => 0xBED00A78#32
  | 70 => 0xBF0A4B44#32
  | 71 => 0x3F955D41#32
  | 72 => 0x3F34331F#32
  | 73 => 0xBE9310E0#32
  | 74 => 0x3FFA6D98#32
  | 75 => 0xBE4EC599#32
  | 76 => 0x3D92810A#32
  | 77 => 0x3D9E89B9#32
  | 78 => 0xBF3EA56F#32
  | 79 => 0x3FAC0BB7#32
  | 80 => 0xBF2EE4D4#32
  | 81 => 0xBFBE2AAC#32
  | 82 => 0x3FF2FB66#32
  | 83 => 0xBD09CC29#32
  | 84 => 0x3F91B355#32
  | 85 => 0x3F2E4344#32
  | 86 => 0xBF5498D5#32
  | 87 => 0xBF404A4E#32
  | 88 => 0x3F5E32E4#32
  | 89 => 0x402790AA#32
  | 90 => 0x3E9C4055#32
  | 91 => 0x403412B5#32
  | 92 => 0x3F3C8234#32
  | 93 => 0x3F9C3AD2#32
  | 94 => 0x40332B2A#32
  | 95 => 0xBFC1AF7F#32
  | 96 => 0xBE9CEE64#32
  | 97 => 0x3EBA5734#32
  | 98 => 0x3F2C3FC4#32
  | 99 => 0x3F6FFDE2#32
  | 100 => 0xBF8F89BA#32
  | 101 => 0x3EFFE3D8#32
  | 102 => 0x3EF636D4#32
  | 103 => 0x3DB59528#32
  | 104 => 0x3F8B7996#32
  | 105 => 0xBF5ABFEF#32
  | 106 => 0x3FEA9768#32
  | 107 => 0x3ED48A39#32
  | 108 => 0x3F085828#32
  | 109 => 0x3E151AC4#32
  | 110 => 0x3F07F53D#32
  | 111 => 0x3F0C6374#32
  | 112 => 0x3FA49988#32
  | 113 => 0xBF1D7934#32
  | 114 => 0xBE9F4075#32
  | 115 => 0xBE594008#32
  | 116 => 0x3FB88F36#32
  | 117 => 0x3F825A0C#32
  | 118 => 0x3F40A99C#32
  | 119 => 0x3F637CB6#32
  | 120 => 0xBE7EF65F#32
  | 121 => 0xBE2EC526#32
  | 122 => 0x4018557C#32
  | 123 => 0x3FB1EFAD#32
  | 124 => 0xBD28C136#32
  | 125 => 0xBF93C284#32
  | 126 => 0x3F1C9BB6#32
  | 127 => 0x3FDB975A#32
  | _ => 0#32

noncomputable abbrev lit0t0_403 (i : Nat) : BitVec 32 := match i % 128 with
  | 0 => 0xBE0CB4CD#32
  | 1 => 0xBE7DE514#32
  | 2 => 0xBF72AA89#32
  | 3 => 0x3EDB0D1D#32
  | 4 => 0x3F8AE870#32
  | 5 => 0xBF4BB737#32
  | 6 => 0xBDEAA3EB#32
  | 7 => 0x40278D9C#32
  | 8 => 0xBF4EFD5C#32
  | 9 => 0x3F362F3C#32
  | 10 => 0xBF08A564#32
  | 11 => 0xBF0FD7A9#32
  | 12 => 0x402B76E4#32
  | 13 => 0x3FB649CA#32
  | 14 => 0x40524C0B#32
  | 15 => 0x3F061E21#32
  | 16 => 0xBF46672B#32
  | 17 => 0x3FC5877C#32
  | 18 => 0xBFAD7F5F#32
  | 19 => 0x401869A4#32
  | 20 => 0x3EAFF7EB#32
  | 21 => 0x400C631D#32
  | 22 => 0x3FB322AC#32
  | 23 => 0x3EE9C279#32
  | 24 => 0x401BD202#32
  | 25 => 0xBD86E047#32
  | 26 => 0x3F7FC152#32
  | 27 => 0xBD871A52#32
  | 28 => 0x3F37ED71#32
  | 29 => 0xBF7DFA8C#32
  | 30 => 0x3EE861BA#32
  | 31 => 0x3F3B178E#32
  | 32 => 0x3F149837#32
  | 33 => 0x3EEC8C24#32
  | 34 => 0xBF7DC537#32
  | 35 => 0x3EB392CD#32
  | 36 => 0xBF1F3A3C#32
  | 37 => 0x3E96DCE1#32
  | 38 => 0x40823BC5#32
  | 39 => 0x3EF3894B#32
  | 40 => 0xBF37BA74#32
  | 41 => 0x3FE60EFA#32
  | 42 => 0x3DBC3AB5#32
  | 43 => 0x3EDFF51C#32
  | 44 => 0xBE589750#32
  | 45 => 0x3F0204A2#32
  | 46 => 0x3EB93A69#32
  | 47 => 0x3EF21A4C#32
  | 48 => 0x3F4EBEA9#32
  | 49 => 0x3F771824#32
  | 50 => 0x4017A9A4#32
  | 51 => 0xBF8EB466#32
  | 52 => 0xBFAE42B6#32
  | 53 => 0xBF5D5E4C#32
  | 54 => 0xBF594E28#32
  | 55 => 0x3F8F3220#32
  | 56 => 0xBF3D6825#32
  | 57 => 0x3EA19C40#32
  | 58 => 0xBF0D13AD#32
  | 59 => 0x3E67240F#32
  | 60 => 0x4000433B#32
  | 61 => 0x3ED1D7BB#32
  | 62 => 0x3FAF77ED#32
  | 63 => 0x3E360366#32
  | 64 => 0x3F007078#32
  | 65 => 0xBEA9B2D8#32
  | 66 => 0xBF9321C4#32
  | 67 => 0x3EC82B1C#32
  | 68 => 0x40CF0288#32
  | 69 => 0xBF3070EC#32
  | 70 => 0x3F6D6D0C#32
  | 71 => 0x3ED8F467#32
  | 72 => 0xC00CECCF#32
  | 73 => 0x3D6F1851#32
  | 74 => 0x4029CCA9#32
  | 75 => 0xBBDBAD13#32
  | 76 => 0x3E98C075#32
  | 77 => 0x3F36BA95#32
  | 78 => 0x3EC250B8#32
  | 79 => 0x3EC5F648#32
  | 80 => 0x3F367603#32
  | 81 => 0xBDAA4819#32
  | 82 => 0x4004C041#32
  | 83 => 0xBF033650#32
  | 84 => 0xBDBFF96D#32
  | 85 => 0xBE9F23A2#32
  | 86 => 0x3DCD4267#32
  | 87 => 0x40428DC7#32
  | 88 => 0x3E197C47#32
  | 89 => 0xBF8881C7#32
  | 90 => 0xBF8154C8#32
  | 91 => 0x3F939B84#32
  | 92 => 0x3F7623E4#32
  | 93 => 0x3E854C84#32
  | 94 => 0xBED69CE9#32
  | 95 => 0x3FA94831#32
  | 96 => 0x3EC62D3A#32
  | 97 => 0x40BC59AE#32
  | 98 => 0x3DE6E4DD#32
  | 99 => 0x3F759EE0#32
  | 100 => 0x3E0B3ABB#32
  | 101 => 0x3FFD9DFE#32
  | 102 => 0xBD4A1F15#32
  | 103 => 0xBF712314#32
  | 104 => 0x3EC98B8F#32
  | 105 => 0xBEE18DE1#32
  | 106 => 0x3F1F7C85#32
  | 107 => 0x3E714E9E#32
  | 108 => 0x3E784E99#32
  | 109 => 0xBE8E0C04#32
  | 110 => 0xBF8D161C#32
  | 111 => 0x3DB5CF73#32
  | 112 => 0xBECA11F5#32
  | 113 => 0x3F9CF4A0#32
  | 114 => 0xBE225E4B#32
  | 115 => 0x3E04573F#32
  | 116 => 0x3E991F31#32
  | 117 => 0x3F738320#32
  | 118 => 0x3F3EC562#32
  | 119 => 0xBF89ACA3#32
  | 120 => 0xBE7ACC43#32
  | 121 => 0xBF6C147A#32
  | 122 => 0x3F440DAD#32
  | 123 => 0x3DBEA67F#32
  | 124 => 0x3F1A8637#32
  | 125 => 0xBE9BA5D5#32
  | 126 => 0x40A1A37D#32
  | 127 => 0xBE9172AE#32
  | _ => 0#32

noncomputable abbrev lit0t0_404 (i : Nat) : BitVec 32 := match i % 128 with
  | 0 => 0xBF0BD94A#32
  | 1 => 0x3F324C81#32
  | 2 => 0x3F6BDC19#32
  | 3 => 0x3EF30EE0#32
  | 4 => 0xBF665D54#32
  | 5 => 0x3E74775C#32
  | 6 => 0x3F0532EA#32
  | 7 => 0xBED64A46#32
  | 8 => 0x3F672CEA#32
  | 9 => 0x3FA4629A#32
  | 10 => 0x3EA379E4#32
  | 11 => 0x40598FA3#32
  | 12 => 0xBF41517F#32
  | 13 => 0xBE923C04#32
  | 14 => 0xBEC6E0E0#32
  | 15 => 0x400E8734#32
  | 16 => 0x3F200B33#32
  | 17 => 0xBF900731#32
  | 18 => 0x3F09678A#32
  | 19 => 0xBEF3562E#32
  | 20 => 0xBE2B0292#32
  | 21 => 0x3F9E4F0B#32
  | 22 => 0x3E990A94#32
  | 23 => 0xBF4F4973#32
  | 24 => 0xBE8BE8DD#32
  | 25 => 0x401E413E#32
  | 26 => 0x4029716F#32
  | 27 => 0x3E16D689#32
  | 28 => 0xBF451AEF#32
  | 29 => 0x3E2A238A#32
  | 30 => 0x3F78A5DD#32
  | 31 => 0x3ECA094E#32
  | 32 => 0x4027B265#32
  | 33 => 0xBEFEC30D#32
  | 34 => 0xBF3832F3#32
  | 35 => 0x401AE687#32
  | 36 => 0x402039A1#32
  | 37 => 0x3EC96D17#32
  | 38 => 0x3FEEA52A#32
  | 39 => 0xBF2A7FBA#32
  | 40 => 0x3EA61888#32
  | 41 => 0xBEFF5FBC#32
  | 42 => 0x3F0C977B#32
  | 43 => 0xBFC2C410#32
  | 44 => 0x3F465DC9#32
  | 45 => 0x3EE8B2FC#32
  | 46 => 0xBF8D8A1D#32
  | 47 => 0xBD97DB7B#32
  | 48 => 0x3FC7ED26#32
  | 49 => 0x3FA7BC1F#32
  | 50 => 0x3F2DA05C#32
  | 51 => 0x3FB18A0C#32
  | 52 => 0x3E4ECA2C#32
  | 53 => 0xBF8DAC7C#32
  | 54 => 0x3FAA4DAE#32
  | 55 => 0x3F003F8F#32
  | 56 => 0xBEBE6CF4#32
  | 57 => 0xBF28F9EE#32
  | 58 => 0xBE128039#32
  | 59 => 0x3E4FE12C#32
  | 60 => 0xBD6D318A#32
  | 61 => 0xBF071C3E#32
  | 62 => 0xBF82757F#32
  | 63 => 0xBF74D2C4#32
  | 64 => 0x3F1A529A#32
  | 65 => 0xBF0FAE30#32
  | 66 => 0xBE99420F#32
  | 67 => 0xBDD8F4CE#32
  | 68 => 0x3FA5C2B0#32
  | 69 => 0xBD0594C4#32
  | 70 => 0x3CA2888D#32
  | 71 => 0xBE9FA296#32
  | 72 => 0x3FF14E3E#32
  | 73 => 0xBFA4A527#32
  | 74 => 0x3CFEC7D6#32
  | 75 => 0xBCA065DF#32
  | 76 => 0xBF5F905A#32
  | 77 => 0x40C0D3D9#32
  | 78 => 0x3F3FB495#32
  | 79 => 0xBE10B581#32
  | 80 => 0x3E9CE893#32
  | 81 => 0x3EEFD75D#32
  | 82 => 0x3F98BE64#32
  | 83 => 0x3EA46A46#32
  | 84 => 0x400E2444#32
  | 85 => 0x40C01F79#32
  | 86 => 0x3CB1A1FA#32
  | 87 => 0x3F18102D#32
  | 88 => 0xBEC25C3D#32
  | 89 => 0x40374A76#32
  | 90 => 0xBF2DE544#32
  | 91 => 0xBED8E375#32
  | 92 => 0xBF8D0BC8#32
  | 93 => 0xBEE7F146#32
  | 94 => 0xBF82A7A6#32
  | 95 => 0xBF09530A#32
  | 96 => 0x3FB6C354#32
  | 97 => 0xBF09DF7C#32
  | 98 => 0x3F6BE5DC#32
  | 99 => 0xBF1B9E5F#32
  | 100 => 0x3F66576F#32
  | 101 => 0xBEA24D54#32
  | 102 => 0x3FAB3935#32
  | 103 => 0x3F57B9B1#32
  | 104 => 0x3FAC961C#32
  | 105 => 0x3F788EE1#32
  | 106 => 0xBEBD9B33#32
  | 107 => 0x40819B1F#32
  | 108 => 0x3EB83766#32
  | 109 => 0xBF107167#32
  | 110 => 0xBEE3DB95#32
  | 111 => 0xBECCC3BC#32
  | 112 => 0xBF9E5132#32
  | 113 => 0x3FA45A48#32
  | 114 => 0xBF859CD5#32
  | 115 => 0x3FCB0422#32
  | 116 => 0x40085C69#32
  | 117 => 0xBEB4E556#32
  | 118 => 0x3BA3E6C3#32
  | 119 => 0x3FC931F8#32
  | 120 => 0x3F8F4DC8#32
  | 121 => 0x3F383DE3#32
  | 122 => 0x3F926092#32
  | 123 => 0xBF9C62AD#32
  | 124 => 0x4011A310#32
  | 125 => 0xBEC3BF2C#32
  | 126 => 0xBE8E7014#32
  | 127 => 0x40684498#32
  | _ => 0#32

noncomputable abbrev lit0t0_405 (i : Nat) : BitVec 32 := match i % 128 with
  | 0 => 0x3DF8CD87#32
  | 1 => 0xBFB57C7A#32
  | 2 => 0x40B9AFD0#32
  | 3 => 0xBE884028#32
  | 4 => 0x3D159DB7#32
  | 5 => 0x3F6CEDC2#32
  | 6 => 0x3FB36370#32
  | 7 => 0x408B09B9#32
  | 8 => 0xBCFCDAE5#32
  | 9 => 0x3EA8DC7C#32
  | 10 => 0x3F21DA68#32
  | 11 => 0xBE00D110#32
  | 12 => 0x3F531244#32
  | 13 => 0x3E9A4972#32
  | 14 => 0x3F9A5F39#32
  | 15 => 0x3F023D7C#32
  | 16 => 0xBF3CB8ED#32
  | 17 => 0xBEAAA6AA#32
  | 18 => 0x3FAA2573#32
  | 19 => 0xBE60B270#32
  | 20 => 0x3E0E39E5#32
  | 21 => 0x3F5ED090#32
  | 22 => 0x3FFD9B19#32
  | 23 => 0x400C47C8#32
  | 24 => 0x3E77592C#32
  | 25 => 0x3F2333DB#32
  | 26 => 0xBFAF7586#32
  | 27 => 0xBEC8C3A3#32
  | 28 => 0xBF21467A#32
  | 29 => 0x4014D52F#32
  | 30 => 0x3FAF3C7D#32
  | 31 => 0xC00EEB91#32
  | 32 => 0x405664D7#32
  | 33 => 0x3F6D7D12#32
  | 34 => 0x3E08CF0B#32
  | 35 => 0xBF4F1D65#32
  | 36 => 0xBEAB86D8#32
  | 37 => 0x407B87F9#32
  | 38 => 0xBE819346#32
  | 39 => 0xBEE2ACC3#32
  | 40 => 0xBF81FE8D#32
  | 41 => 0xBF09C066#32
  | 42 => 0x3FA834AB#32
  | 43 => 0x404D1F97#32
  | 44 => 0xBFBA5509#32
  | 45 => 0x3F834EEE#32
  | 46 => 0x3F9079E6#32
  | 47 => 0x3E804BE9#32
  | 48 => 0xBF3B566E#32
  | 49 => 0x3E33D4DD#32
  | 50 => 0x3FB34813#32
  | 51 => 0x3FEEE9D9#32
  | 52 => 0xBE156C85#32
  | 53 => 0x3C6B1572#32
  | 54 => 0xBEC394C0#32
  | 55 => 0xBEF383CC#32
  | 56 => 0x3F998132#32
  | 57 => 0xBEC43FD1#32
  | 58 => 0xBED1C1C4#32
  | 59 => 0xBEC11E6B#32
  | 60 => 0xBEC00292#32
  | 61 => 0x40034EBF#32
  | 62 => 0xBEAAF059#32
  | 63 => 0x3D774FD4#32
  | 64 => 0x3E12586C#32
  | 65 => 0x4003E177#32
  | 66 => 0x400D36C0#32
  | 67 => 0x4010127B#32
  | 68 => 0x3F11BC9E#32
  | 69 => 0x3FE640F8#32
  | 70 => 0x3D6E208C#32
  | 71 => 0xBF20910A#32
  | 72 => 0x3FE79C92#32
  | 73 => 0xBD8A1660#32
  | 74 => 0xBDD9E882#32
  | 75 => 0xBEF3B599#32
  | 76 => 0x3F513A31#32
  | 77 => 0x40444734#32
  | 78 => 0x3FF5A633#32
  | 79 => 0x3FD25456#32
  | 80 => 0x3F43DB30#32
  | 81 => 0x3E68F443#32
  | 82 => 0x404FFCAD#32
  | 83 => 0xBF525689#32
  | 84 => 0x3F8B2009#32
  | 85 => 0x3D6A4F6A#32
  | 86 => 0x3FDC9756#32
  | 87 => 0xBE429263#32
  | 88 => 0x3F90A074#32
  | 89 => 0xBF82AC0D#32
  | 90 => 0xBF49140C#32
  | 91 => 0xBFCC8135#32
  | 92 => 0x3F4F1A73#32
  | 93 => 0x40289958#32
  | 94 => 0xBE127340#32
  | 95 => 0x401AD6B6#32
  | 96 => 0xBF1D285B#32
  | 97 => 0xBF1493D3#32
  | 98 => 0x3FE63562#32
  | 99 => 0x400861F7#32
  | 100 => 0x3CB5431C#32
  | 101 => 0x3F9A250D#32
  | 102 => 0x3F10ADB0#32
  | 103 => 0xBF1BC9D6#32
  | 104 => 0x3F8A8BCE#32
  | 105 => 0xBEA2ABAC#32
  | 106 => 0x3DA2FF97#32
  | 107 => 0x3FF0A1A2#32
  | 108 => 0xBF5431D4#32
  | 109 => 0x3FBF1742#32
  | 110 => 0xBF3C7318#32
  | 111 => 0xBD4A375A#32
  | 112 => 0xBDB47F61#32
  | 113 => 0x400E82A0#32
  | 114 => 0x3F9D9EA2#32
  | 115 => 0xBF26383C#32
  | 116 => 0x3FED0B80#32
  | 117 => 0xBF82BE61#32
  | 118 => 0x3FF5AEFC#32
  | 119 => 0x3DBDC7B4#32
  | 120 => 0x3F004044#32
  | 121 => 0x3EA3F12D#32
  | 122 => 0x3F43D87C#32
  | 123 => 0x4099660E#32
  | 124 => 0xBE9A2B0A#32
  | 125 => 0x3ECD8C81#32
  | 126 => 0x3FB0D713#32
  | 127 => 0x400D1E07#32
  | _ => 0#32

noncomputable abbrev lit0t0_406 (i : Nat) : BitVec 32 := match i % 128 with
  | 0 => 0x3F5EA42A#32
  | 1 => 0x3FDF1822#32
  | 2 => 0xBEA13BF8#32
  | 3 => 0xBEB6E5EB#32
  | 4 => 0x3F04BAA9#32
  | 5 => 0x3F5CAD66#32
  | 6 => 0xBD7BBFA1#32
  | 7 => 0x40817A37#32
  | 8 => 0xBEF35F8B#32
  | 9 => 0xBF29539C#32
  | 10 => 0x3EB2E5AD#32
  | 11 => 0xBEEC733C#32
  | 12 => 0xBF5DA3A5#32
  | 13 => 0xBE9EF421#32
  | 14 => 0xBED78112#32
  | 15 => 0xBF8190FD#32
  | 16 => 0xBDD6F3D9#32
  | 17 => 0x3ED97DC5#32
  | 18 => 0x3EBDA94F#32
  | 19 => 0xBEB5DA9F#32
  | 20 => 0x40B992AB#32
  | 21 => 0xBE3D20ED#32
  | 22 => 0x400A4269#32
  | 23 => 0xBF4E16CB#32
  | 24 => 0x3F09FCAE#32
  | 25 => 0xBE64CBB5#32
  | 26 => 0xBF451E63#32
  | 27 => 0xBF43FCE0#32
  | 28 => 0xBF622C6D#32
  | 29 => 0x40176399#32
  | 30 => 0x3F1ACFAB#32
  | 31 => 0xBF1D1AAD#32
  | 32 => 0x3FD16140#32
  | 33 => 0x3F53832A#32
  | 34 => 0xBDE86E4C#32
  | 35 => 0xBEF731F6#32
  | 36 => 0x3F744C90#32
  | 37 => 0x3ECB6CF2#32
  | 38 => 0x3F9E9222#32
  | 39 => 0x4077B1AA#32
  | 40 => 0xBEC7E4DF#32
  | 41 => 0x3F052838#32
  | 42 => 0x3FE882F0#32
  | 43 => 0xBF877B15#32
  | 44 => 0x3F17167C#32
  | 45 => 0x3EA6F971#32
  | 46 => 0x3FE9DF49#32
  | 47 => 0xBFFECA67#32
  | 48 => 0xBF80E8D2#32
  | 49 => 0x3F182041#32
  | 50 => 0xBF82993A#32
  | 51 => 0x400D7CE1#32
  | 52 => 0xBE713C22#32
  | 53 => 0xBF770CB2#32
  | 54 => 0x3F1C2A74#32
  | 55 => 0x3F8E1F50#32
  | 56 => 0xBF9DA5B5#32
  | 57 => 0xBD9347C1#32
  | 58 => 0xBB61EC32#32
  | 59 => 0x3FE4203B#32
  | 60 => 0x3FEAAA80#32
  | 61 => 0x402094EC#32
  | 62 => 0xBF624700#32
  | 63 => 0xBF1B87C4#32
  | 64 => 0xBF20960F#32
  | 65 => 0x3F92088D#32
  | 66 => 0xBE8E047C#32
  | 67 => 0xBF498851#32
  | 68 => 0xBF0A9F44#32
  | 69 => 0x400DDF23#32
  | 70 => 0x3F0650D8#32
  | 71 => 0x3FA4BBB3#32
  | 72 => 0xBE997C72#32
  | 73 => 0x3FF50D31#32
  | 74 => 0x3FB6BB2C#32
  | 75 => 0xBEC0D96F#32
  | 76 => 0xBF5C2594#32
  | 77 => 0x3FEB5C03#32
  | 78 => 0xBE8E9194#32
  | 79 => 0xBF3CC8EA#32
  | 80 => 0xBF44FEF9#32
  | 81 => 0x3DF30690#32
  | 82 => 0x3D2E691F#32
  | 83 => 0xBCDCADB3#32
  | 84 => 0xBE98E76C#32
  | 85 => 0x4007415A#32
  | 86 => 0x4077B09D#32
  | 87 => 0x3EF6A35F#32
  | 88 => 0x3FCBBF27#32
  | 89 => 0x3F433A98#32
  | 90 => 0xBE3BC78E#32
  | 91 => 0xBEE57D63#32
  | 92 => 0x3F255693#32
  | 93 => 0xBC87AF7D#32
  | 94 => 0x402D099D#32
  | 95 => 0xBE27BD74#32
  | 96 => 0x401E44D9#32
  | 97 => 0xBF4CFB54#32
  | 98 => 0xBE3C3C54#32
  | 99 => 0x3FBDBBFB#32
  | 100 => 0xBEC7424C#32
  | 101 => 0xBF0DDCBB#32
  | 102 => 0x3D88CA22#32
  | 103 => 0x3FAC15DE#32
  | 104 => 0xBE6C451A#32
  | 105 => 0xBD0E643D#32
  | 106 => 0x3FF157BD#32
  | 107 => 0x3E153C68#32
  | 108 => 0xBF0FCD86#32
  | 109 => 0xBCBFBA9E#32
  | 110 => 0x3F9FB3C9#32
  | 111 => 0xBE948ED8#32
  | 112 => 0x3D817D06#32
  | 113 => 0xBFA89A21#32
  | 114 => 0x3F88A33E#32
  | 115 => 0xBE0D0728#32
  | 116 => 0x3FC1672D#32
  | 117 => 0x3F5AC698#32
  | 118 => 0xBF33913E#32
  | 119 => 0x3E5967DD#32
  | 120 => 0x3FB8D64F#32
  | 121 => 0x3E75BF83#32
  | 122 => 0x40570244#32
  | 123 => 0x3F813CA4#32
  | 124 => 0xBF317276#32
  | 125 => 0xBEA9EE4B#32
  | 126 => 0x3E69B625#32
  | 127 => 0x4012E99D#32
  | _ => 0#32

noncomputable abbrev lit0t0_407 (i : Nat) : BitVec 32 := match i % 128 with
  | 0 => 0x3F3E1466#32
  | 1 => 0x3E5936DA#32
  | 2 => 0xBF8B21DE#32
  | 3 => 0xBF88013C#32
  | 4 => 0x3E52379E#32
  | 5 => 0x3EAE6249#32
  | 6 => 0x400DB99E#32
  | 7 => 0x404B9591#32
  | 8 => 0x4059C4C1#32
  | 9 => 0x3FB747C2#32
  | 10 => 0xBFAF4321#32
  | 11 => 0x4070824A#32
  | 12 => 0x3F5A05F6#32
  | 13 => 0xBFB062B7#32
  | 14 => 0x3F9C26EE#32
  | 15 => 0xBECEE4C5#32
  | 16 => 0xBE55716C#32
  | 17 => 0x3EA61644#32
  | 18 => 0xBEB05EE8#32
  | 19 => 0xBF1CC101#32
  | 20 => 0x3CC13CE4#32
  | 21 => 0xBCA98172#32
  | 22 => 0xBEBD21F6#32
  | 23 => 0x3EE9330B#32
  | 24 => 0xBF88A66A#32
  | 25 => 0x3EBAB196#32
  | 26 => 0xBEC13E6C#32
  | 27 => 0x3FD4B8D8#32
  | 28 => 0xBF2BDB7E#32
  | 29 => 0x404074CB#32
  | 30 => 0xBF1A8C94#32
  | 31 => 0x3D5C6074#32
  | 32 => 0xBF8D0EF8#32
  | 33 => 0x3FBE7532#32
  | 34 => 0x3F202778#32
  | 35 => 0x4044C21B#32
  | 36 => 0x3F008496#32
  | 37 => 0xBF865730#32
  | 38 => 0x3E95B9AB#32
  | 39 => 0xBE296794#32
  | 40 => 0x3FE9C748#32
  | 41 => 0x3DDCABD7#32
  | 42 => 0xBEAF92A3#32
  | 43 => 0x402E72F7#32
  | 44 => 0xBFD67672#32
  | 45 => 0x4072D576#32
  | 46 => 0xBF20F2D2#32
  | 47 => 0xBF399720#32
  | 48 => 0xBE8D9384#32
  | 49 => 0xBF1D356D#32
  | 50 => 0x3FC56E07#32
  | 51 => 0x3E21B4F1#32
  | 52 => 0x3FB702A9#32
  | 53 => 0x40194D42#32
  | 54 => 0x3EFE8814#32
  | 55 => 0x4024FE62#32
  | 56 => 0x3FE7C204#32
  | 57 => 0xBF0FDAE0#32
  | 58 => 0x3E5E8EC5#32
  | 59 => 0xBF875725#32
  | 60 => 0x3F7E4B8E#32
  | 61 => 0x4024416A#32
  | 62 => 0x3FB7EC4F#32
  | 63 => 0x3F8F5F9D#32
  | 64 => 0x3F81C9D2#32
  | 65 => 0x3EFC17B4#32
  | 66 => 0x3E24A119#32
  | 67 => 0x40508038#32
  | 68 => 0x3FA9DCA9#32
  | 69 => 0xBDB0C959#32
  | 70 => 0xBEFBD77D#32
  | 71 => 0x40016ADD#32
  | 72 => 0x3F84CB53#32
  | 73 => 0x403A56BB#32
  | 74 => 0x40020B70#32
  | 75 => 0xBECE37C1#32
  | 76 => 0xBE659B11#32
  | 77 => 0x3F97B134#32
  | 78 => 0xBF0F269C#32
  | 79 => 0x3FC13194#32
  | 80 => 0x408B808C#32
  | 81 => 0xBE42190F#32
  | 82 => 0x3ED5A5B9#32
  | 83 => 0x3FF73440#32
  | 84 => 0xBF2FAB09#32
  | 85 => 0x3ECBA54F#32
  | 86 => 0xBDB831A3#32
  | 87 => 0x3F8E310D#32
  | 88 => 0x3F55465A#32
  | 89 => 0x3F11BDE2#32
  | 90 => 0xBF88783A#32
  | 91 => 0xBECC3E1B#32
  | 92 => 0x3FAEB2CD#32
  | 93 => 0x3FC9BE4C#32
  | 94 => 0x4089D065#32
  | 95 => 0x3F515B36#32
  | 96 => 0x3EBDB771#32
  | 97 => 0x3E940954#32
  | 98 => 0xBF5779A4#32
  | 99 => 0x40193993#32
  | 100 => 0x3F7D930A#32
  | 101 => 0xBF8D4806#32
  | 102 => 0xBEFA3C1F#32
  | 103 => 0xBF54D400#32
  | 104 => 0x3DD60311#32
  | 105 => 0xBF4AC5CE#32
  | 106 => 0xBE938276#32
  | 107 => 0x3FE67009#32
  | 108 => 0x3E64EFAD#32
  | 109 => 0xBF6CD693#32
  | 110 => 0x4045F949#32
  | 111 => 0x3F7DC596#32
  | 112 => 0x3CF442CB#32
  | 113 => 0x4031787C#32
  | 114 => 0x3E7860EB#32
  | 115 => 0x3DBF8734#32
  | 116 => 0xBED84A2C#32
  | 117 => 0xBF175F33#32
  | 118 => 0x400A2845#32
  | 119 => 0xBFCF549A#32
  | 120 => 0x3F8D1DF5#32
  | 121 => 0xBEBD2EFE#32
  | 122 => 0x4006ADA5#32
  | 123 => 0x403F1F30#32
  | 124 => 0xBDD29739#32
  | 125 => 0x3ED864B3#32
  | 126 => 0xBF0D657A#32
  | 127 => 0xBF8282D5#32
  | _ => 0#32

noncomputable abbrev lit0t0_408 (i : Nat) : BitVec 32 := match i % 128 with
  | 0 => 0x3FB31478#32
  | 1 => 0x3EC9EEB1#32
  | 2 => 0xBF8B37A2#32
  | 3 => 0x400B6BD2#32
  | 4 => 0xBF0BEED7#32
  | 5 => 0x3E96664E#32
  | 6 => 0xBED7229A#32
  | 7 => 0xBE717292#32
  | 8 => 0x3F73D564#32
  | 9 => 0x3F765FA1#32
  | 10 => 0xBF4005D7#32
  | 11 => 0xBE944DD8#32
  | 12 => 0xBFBA664B#32
  | 13 => 0x3ECEA1F5#32
  | 14 => 0x3F8CE812#32
  | 15 => 0x408BD27E#32
  | 16 => 0x3F2D05D2#32
  | 17 => 0xBECC9E2B#32
  | 18 => 0xBEF04B46#32
  | 19 => 0xBF34CD3C#32
  | 20 => 0x3FC4D18A#32
  | 21 => 0x3FAE31AB#32
  | 22 => 0xBF9F1BFD#32
  | 23 => 0x3FAB16F3#32
  | 24 => 0x3FF79BE7#32
  | 25 => 0x400BBAEE#32
  | 26 => 0x3FDDEEFF#32
  | 27 => 0x3F0B97E9#32
  | 28 => 0x3F5080AF#32
  | 29 => 0xBF89B4F6#32
  | 30 => 0x401E66A4#32
  | 31 => 0xBEC5BBA2#32
  | 32 => 0xBE1AA3CD#32
  | 33 => 0xBB90E9D9#32
  | 34 => 0x4021B93F#32
  | 35 => 0x3FECAAD3#32
  | 36 => 0x403808A4#32
  | 37 => 0xBF4F7B36#32
  | 38 => 0x3EB36C2A#32
  | 39 => 0x3F9EEC74#32
  | 40 => 0xBF09848F#32
  | 41 => 0x3FA02D9D#32
  | 42 => 0x3EC1F7EA#32
  | 43 => 0xBF9A1243#32
  | 44 => 0xBF068143#32
  | 45 => 0x3FA301B8#32
  | 46 => 0x3F3DAB2F#32
  | 47 => 0xBEDB9684#32
  | 48 => 0x3FC96986#32
  | 49 => 0x3E49D7AF#32
  | 50 => 0x3FA93115#32
  | 51 => 0xBE735BB5#32
  | 52 => 0x3F169FBC#32
  | 53 => 0x3FB3763C#32
  | 54 => 0x3EAC12A8#32
  | 55 => 0x4006F922#32
  | 56 => 0x3F7A0CD8#32
  | 57 => 0xBCA4C2BC#32
  | 58 => 0x3FE8ECAF#32
  | 59 => 0x3FF73DA1#32
  | 60 => 0xBF3FAA8F#32
  | 61 => 0x40481A98#32
  | 62 => 0x3F5D5254#32
  | 63 => 0xBEDE98CA#32
  | 64 => 0xBF8E89EA#32
  | 65 => 0x3FA3A10F#32
  | 66 => 0x3F870CB4#32
  | 67 => 0x3F5F7176#32
  | 68 => 0xBF1BD903#32
  | 69 => 0xBE0F76A6#32
  | 70 => 0xBF8CDAD5#32
  | 71 => 0xBFA5F0FA#32
  | 72 => 0xBDAAD902#32
  | 73 => 0xBF803A08#32
  | 74 => 0x3F9751CB#32
  | 75 => 0x3EA6B3F2#32
  | 76 => 0x3F9CA647#32
  | 77 => 0x3FCB40BB#32
  | 78 => 0x3DE99AED#32
  | 79 => 0x3F2CD842#32
  | 80 => 0x40246889#32
  | 81 => 0xBF58665F#32
  | 82 => 0x3FDD4F62#32
  | 83 => 0xBF33842E#32
  | 84 => 0x3FF7A50E#32
  | 85 => 0xBC1D5DE8#32
  | 86 => 0x400F6D63#32
  | 87 => 0xBEBD4B73#32
  | 88 => 0x3F622A28#32
  | 89 => 0xBF1C0C57#32
  | 90 => 0x3F53099E#32
  | 91 => 0x3DC0D723#32
  | 92 => 0x3F141ED3#32
  | 93 => 0xBEDFA8BF#32
  | 94 => 0x4046EF29#32
  | 95 => 0xBF4B3486#32
  | 96 => 0x3F162E30#32
  | 97 => 0x3FFC49B5#32
  | 98 => 0xBE7E530B#32
  | 99 => 0x401B7861#32
  | 100 => 0x3DB14CA3#32
  | 101 => 0x3FF1C487#32
  | 102 => 0xBF6D2C28#32
  | 103 => 0x3F30DF98#32
  | 104 => 0xBF786DBE#32
  | 105 => 0xBFA0B84E#32
  | 106 => 0x3FAA643F#32
  | 107 => 0xBF470FBC#32
  | 108 => 0x4083E2B8#32
  | 109 => 0x3FAEF7C2#32
  | 110 => 0xBFB837E5#32
  | 111 => 0x3EA04261#32
  | 112 => 0x3FD5892B#32
  | 113 => 0x3F479B7C#32
  | 114 => 0xBEB763DB#32
  | 115 => 0x401A9AF2#32
  | 116 => 0xBF2BE077#32
  | 117 => 0xBE9EA371#32
  | 118 => 0xBDA10E1C#32
  | 119 => 0xBDF25A60#32
  | 120 => 0xBECE7EFF#32
  | 121 => 0xBF3CBB70#32
  | 122 => 0xBD0BAB48#32
  | 123 => 0x3F988AE3#32
  | 124 => 0xBEFD5724#32
  | 125 => 0xBD0C2B73#32
  | 126 => 0xBF977780#32
  | 127 => 0xBF236A5F#32
  | _ => 0#32

noncomputable abbrev lit0t0_409 (i : Nat) : BitVec 32 := match i % 128 with
  | 0 => 0x3E65305D#32
  | 1 => 0xBF11E30E#32
  | 2 => 0x3FC7EAC2#32
  | 3 => 0x3E0B8669#32
  | 4 => 0x40B3B9CC#32
  | 5 => 0xBF09E098#32
  | 6 => 0x3ED3E129#32
  | 7 => 0xBF0C4355#32
  | 8 => 0x3F33E660#32
  | 9 => 0x3F5A600C#32
  | 10 => 0x3FAA097F#32
  | 11 => 0x4017BB5C#32
  | 12 => 0x3F8C7F48#32
  | 13 => 0x3E0D633A#32
  | 14 => 0x3F818F5E#32
  | 15 => 0x3EF74568#32
  | 16 => 0x4050ABA4#32
  | 17 => 0x3DAD49EB#32
  | 18 => 0x3E6F02CA#32
  | 19 => 0xBE0AC389#32
  | 20 => 0x3FC8A271#32
  | 21 => 0xBF3D1047#32
  | 22 => 0x40036D3C#32
  | 23 => 0xBE663F83#32
  | 24 => 0x3ED05021#32
  | 25 => 0x3DB962AD#32
  | 26 => 0xBF450D5C#32
  | 27 => 0x3ECEAF6C#32
  | 28 => 0xBED5DFCF#32
  | 29 => 0x3F9CBF58#32
  | 30 => 0x3F897C9A#32
  | 31 => 0x3F558AA9#32
  | 32 => 0x3EB10B9E#32
  | 33 => 0x3ED112D4#32
  | 34 => 0x3F903FDC#32
  | 35 => 0xBE4A87B4#32
  | 36 => 0x4024FF61#32
  | 37 => 0xBC3C4CED#32
  | 38 => 0x3E8EC3EA#32
  | 39 => 0x3F885E8A#32
  | 40 => 0xBEAE93DD#32
  | 41 => 0x3E070828#32
  | 42 => 0x400E6BF3#32
  | 43 => 0x3F74398A#32
  | 44 => 0x3FE857EA#32
  | 45 => 0x3EC84D0D#32
  | 46 => 0x402A3147#32
  | 47 => 0x3F871A7C#32
  | 48 => 0xBEE279AE#32
  | 49 => 0x3F133F6C#32
  | 50 => 0x3F0DFCAA#32
  | 51 => 0x3FBF7E47#32
  | 52 => 0xBF3551FD#32
  | 53 => 0x3F03ABD3#32
  | 54 => 0x3E972C8A#32
  | 55 => 0x3F5A4A1F#32
  | 56 => 0x3FD23444#32
  | 57 => 0xBE34EE6A#32
  | 58 => 0xBE0DE730#32
  | 59 => 0x3E57E8D2#32
  | 60 => 0x401D6966#32
  | 61 => 0xBFAD43BA#32
  | 62 => 0x400B1D34#32
  | 63 => 0xBEF4D79A#32
  | 64 => 0x3FCE58BE#32
  | 65 => 0xBBF480E5#32
  | 66 => 0x40105892#32
  | 67 => 0x4012FCB6#32
  | 68 => 0xBFA8EC4C#32
  | 69 => 0xBEC38E78#32
  | 70 => 0x3DFF0DBE#32
  | 71 => 0xBF814709#32
  | 72 => 0x403F8532#32
  | 73 => 0xBF8DBFAB#32
  | 74 => 0x3FA1D2F6#32
  | 75 => 0x3F3559B8#32
  | 76 => 0x3F046F3E#32
  | 77 => 0xBF95F611#32
  | 78 => 0xBF82737E#32
  | 79 => 0x3FCB10B6#32
  | 80 => 0x409326CD#32
  | 81 => 0x3F14E43E#32
  | 82 => 0xBE94712C#32
  | 83 => 0x3E5B5935#32
  | 84 => 0xBF26D765#32
  | 85 => 0x3EBF6756#32
  | 86 => 0x3E072D3D#32
  | 87 => 0x40826619#32
  | 88 => 0xBEDD905D#32
  | 89 => 0xBE6E3ADE#32
  | 90 => 0xBF156E2E#32
  | 91 => 0x3F6146DF#32
  | 92 => 0xBEE21941#32
  | 93 => 0xBD31D152#32
  | 94 => 0x3FEDF091#32
  | 95 => 0x406ACCAC#32
  | 96 => 0x3F626BD6#32
  | 97 => 0x3FE09736#32
  | 98 => 0x3FDF9391#32
  | 99 => 0x3FCBEB54#32
  | 100 => 0xBEDFAD07#32
  | 101 => 0x40354398#32
  | 102 => 0x400F2C33#32
  | 103 => 0xBE6E04BA#32
  | 104 => 0x403BE646#32
  | 105 => 0x401ECC36#32
  | 106 => 0x3EA52373#32
  | 107 => 0x3FB50A8E#32
  | 108 => 0x4007DA31#32
  | 109 => 0xBF966B2C#32
  | 110 => 0x3E67440F#32
  | 111 => 0x3ECFADDA#32
  | 112 => 0x3E6A34DA#32
  | 113 => 0x3F195F89#32
  | 114 => 0x40258368#32
  | 115 => 0xBEB48524#32
  | 116 => 0x3F70E8F9#32
  | 117 => 0x3F3CBA1C#32
  | 118 => 0xBF899562#32
  | 119 => 0xBFAC0C87#32
  | 120 => 0xBE221B3D#32
  | 121 => 0x3F6C5FB2#32
  | 122 => 0x3F89A2FE#32
  | 123 => 0xBF39B5C5#32
  | 124 => 0xBF18DECE#32
  | 125 => 0x3FFF2140#32
  | 126 => 0x3F14F428#32
  | 127 => 0xBFBDAC38#32
  | _ => 0#32

noncomputable abbrev lit0t0_410 (i : Nat) : BitVec 32 := match i % 128 with
  | 0 => 0x40137138#32
  | 1 => 0x4026225C#32
  | 2 => 0xBEE97BFD#32
  | 3 => 0x401FAF2B#32
  | 4 => 0x3FB116AD#32
  | 5 => 0x3E9346E1#32
  | 6 => 0xBD3A801D#32
  | 7 => 0x3F4BD5FA#32
  | 8 => 0x3E8AAA48#32
  | 9 => 0x3EBBB3EF#32
  | 10 => 0x3E4A7D98#32
  | 11 => 0x3F5FC678#32
  | 12 => 0xBFABB36E#32
  | 13 => 0x3F06F9AF#32
  | 14 => 0x3E51DB5A#32
  | 15 => 0x3D202CA6#32
  | 16 => 0x3F2D8199#32
  | 17 => 0xBFB6027B#32
  | 18 => 0x3F0C322F#32
  | 19 => 0x3DE571EE#32
  | 20 => 0xBF7CF8F0#32
  | 21 => 0x3EAE6B53#32
  | 22 => 0x3F296846#32
  | 23 => 0x3F9B7586#32
  | 24 => 0x400767CE#32
  | 25 => 0xBE16A315#32
  | 26 => 0x3FD91FBD#32
  | 27 => 0xBE9DEC61#32
  | 28 => 0x3F92C9D5#32
  | 29 => 0x401FFDEC#32
  | 30 => 0xBF317930#32
  | 31 => 0x3F0DFBF7#32
  | 32 => 0x3EB2B065#32
  | 33 => 0xBE8FA725#32
  | 34 => 0x4061A789#32
  | 35 => 0x4005D098#32
  | 36 => 0x3ECF4F2F#32
  | 37 => 0x3E284332#32
  | 38 => 0x40852A40#32
  | 39 => 0x3FECF42F#32
  | 40 => 0xBEBE7BED#32
  | 41 => 0x3F3B7B47#32
  | 42 => 0xBF4038F7#32
  | 43 => 0xBDBF4046#32
  | 44 => 0x3EDA71B6#32
  | 45 => 0x3E48A193#32
  | 46 => 0x3F9CAD6E#32
  | 47 => 0x3F23C036#32
  | 48 => 0xBCFD1360#32
  | 49 => 0x3F946B8D#32
  | 50 => 0x3FDDDE58#32
  | 51 => 0xBC011B6F#32
  | 52 => 0x3E013FD5#32
  | 53 => 0x3F0C0E08#32
  | 54 => 0x3F5E351A#32
  | 55 => 0xBF8AA14E#32
  | 56 => 0x3FDDCFDD#32
  | 57 => 0xBE3B3E94#32
  | 58 => 0x3ED2E500#32
  | 59 => 0xBEAFC799#32
  | 60 => 0xBEF9EAF4#32
  | 61 => 0xBD912551#32
  | 62 => 0xBF7195D3#32
  | 63 => 0xBFD70D72#32
  | 64 => 0xBF57147F#32
  | 65 => 0xBF184D88#32
  | 66 => 0x3FDEFF2C#32
  | 67 => 0x3F04D427#32
  | 68 => 0x3F6979D2#32
  | 69 => 0x3D92071B#32
  | 70 => 0x3DDCA245#32
  | 71 => 0x40091EF9#32
  | 72 => 0xBF46478A#32
  | 73 => 0x40E606B8#32
  | 74 => 0x3F87BCAE#32
  | 75 => 0xBF57D1D4#32
  | 76 => 0x3FF46468#32
  | 77 => 0xBF45D592#32
  | 78 => 0xBEC96E6A#32
  | 79 => 0xBEBFB21D#32
  | 80 => 0x3EBC1F92#32
  | 81 => 0x3F20F296#32
  | 82 => 0xBF41C337#32
  | 83 => 0x3F2A58C3#32
  | 84 => 0x3EE87DC6#32
  | 85 => 0xBEE71B43#32
  | 86 => 0x3F236838#32
  | 87 => 0x4016F2FF#32
  | 88 => 0x3FE2A61F#32
  | 89 => 0xBE888981#32
  | 90 => 0x3FA73066#32
  | 91 => 0x3ED487B4#32
  | 92 => 0x3F7CEA30#32
  | 93 => 0xBF5DEE8A#32
  | 94 => 0xBEB796D4#32
  | 95 => 0x3F5489F3#32
  | 96 => 0xBFFFF09C#32
  | 97 => 0xBF451B78#32
  | 98 => 0xBE2A572F#32
  | 99 => 0xBF1725BC#32
  | 100 => 0x3F704AD9#32
  | 101 => 0x3F3DEF19#32
  | 102 => 0xBEA3B41A#32
  | 103 => 0x3E34DF51#32
  | 104 => 0x402639BD#32
  | 105 => 0xBE3D22AA#32
  | 106 => 0xBEC7B715#32
  | 107 => 0xBCC195CF#32
  | 108 => 0x3E690418#32
  | 109 => 0x3ED9BAFB#32
  | 110 => 0x3F79E18E#32
  | 111 => 0x3F8FAF8E#32
  | 112 => 0x3F2D85F1#32
  | 113 => 0x3F859AB3#32
  | 114 => 0x403144D8#32
  | 115 => 0xBF117C96#32
  | 116 => 0x3EA3DB40#32
  | 117 => 0xBED16F5A#32
  | 118 => 0x3F60429C#32
  | 119 => 0xBDBA3205#32
  | 120 => 0xBE4CDCA3#32
  | 121 => 0xBE339EE7#32
  | 122 => 0x40390087#32
  | 123 => 0x3FE65C94#32
  | 124 => 0xBEE8941C#32
  | 125 => 0x3EB674A2#32
  | 126 => 0x3D6C90A8#32
  | 127 => 0x3FA2968F#32
  | _ => 0#32

noncomputable abbrev lit0t0_411 (i : Nat) : BitVec 32 := match i % 128 with
  | 0 => 0x3F87ECAA#32
  | 1 => 0x3F035458#32
  | 2 => 0x3E30E0B7#32
  | 3 => 0xBE83B5BB#32
  | 4 => 0x4004C4DF#32
  | 5 => 0x3F656901#32
  | 6 => 0x3FDC5F47#32
  | 7 => 0x3FAB8EA0#32
  | 8 => 0x3F8B8A0B#32
  | 9 => 0xBEDDE62E#32
  | 10 => 0x3F72E7DA#32
  | 11 => 0xBF46164A#32
  | 12 => 0x402A8386#32
  | 13 => 0x3F31AC5B#32
  | 14 => 0x3FFAD8A2#32
  | 15 => 0x3F33C75F#32
  | 16 => 0x3FAD8C44#32
  | 17 => 0xBE97C86E#32
  | 18 => 0xBF2AC652#32
  | 19 => 0xBF97D3EE#32
  | 20 => 0x3EAC6FD1#32
  | 21 => 0x3F2860B2#32
  | 22 => 0x3F5A7418#32
  | 23 => 0xBD7BA30F#32
  | 24 => 0x402DA0A9#32
  | 25 => 0x3CA42B31#32
  | 26 => 0x3FE37A1E#32
  | 27 => 0x3EB81CC4#32
  | 28 => 0x3E833AB7#32
  | 29 => 0x4007506D#32
  | 30 => 0xBD8070E9#32
  | 31 => 0xBFB31FCB#32
  | 32 => 0x3F022C90#32
  | 33 => 0x3F23968E#32
  | 34 => 0xBF9BF762#32
  | 35 => 0xBFA0163B#32
  | 36 => 0xBF51151E#32
  | 37 => 0x3EE49ECB#32
  | 38 => 0xBFB2A892#32
  | 39 => 0x3E605301#32
  | 40 => 0x3F1C8EA8#32
  | 41 => 0x3D9ECA75#32
  | 42 => 0xBDF4C42B#32
  | 43 => 0xBEA6BC69#32
  | 44 => 0xBF50908B#32
  | 45 => 0x3FB8BE3C#32
  | 46 => 0x3DD5F387#32
  | 47 => 0xBF23E28F#32
  | 48 => 0x3F57F4C4#32
  | 49 => 0x3F4CBB85#32
  | 50 => 0xBF734A3E#32
  | 51 => 0xBF88166F#32
  | 52 => 0xBC09ECF6#32
  | 53 => 0x40344359#32
  | 54 => 0x3FA8716A#32
  | 55 => 0xBE972E22#32
  | 56 => 0x3FAB7D07#32
  | 57 => 0x400D69F6#32
  | 58 => 0xBF7005CE#32
  | 59 => 0x3F0DEB83#32
  | 60 => 0x3F530B32#32
  | 61 => 0x401601B7#32
  | 62 => 0x406577F2#32
  | 63 => 0x3F514E54#32
  | 64 => 0x3F5855F3#32
  | 65 => 0x40981B54#32
  | 66 => 0x41056BFF#32
  | 67 => 0x3FB75E5B#32
  | 68 => 0x40051409#32
  | 69 => 0x403176C1#32
  | 70 => 0x3DE2C8B0#32
  | 71 => 0x3FFF002F#32
  | 72 => 0xBF3C180D#32
  | 73 => 0x3E68E179#32
  | 74 => 0xBD568130#32
  | 75 => 0x3E0F6A5B#32
  | 76 => 0x3F5AFAD0#32
  | 77 => 0x3F1DB546#32
  | 78 => 0x406BEB70#32
  | 79 => 0x3FA6ACF8#32
  | 80 => 0x40272FB6#32
  | 81 => 0x3F302989#32
  | 82 => 0xBEFBFB48#32
  | 83 => 0x3E88A0A1#32
  | 84 => 0xBEFE088A#32
  | 85 => 0x40C52030#32
  | 86 => 0x3FAFF972#32
  | 87 => 0xBDD4A48A#32
  | 88 => 0x3F153AE5#32
  | 89 => 0x4017DE14#32
  | 90 => 0x3E0E017E#32
  | 91 => 0xBEB908B5#32
  | 92 => 0xBE09D713#32
  | 93 => 0xBE93EB18#32
  | 94 => 0x3F093609#32
  | 95 => 0xBF436BA5#32
  | 96 => 0x3ECC9A2C#32
  | 97 => 0xBFAC931D#32
  | 98 => 0xBF682D29#32
  | 99 => 0x3FF99711#32
  | 100 => 0xBFA408CC#32
  | 101 => 0x3F976146#32
  | 102 => 0x3FC41404#32
  | 103 => 0xBE3C457C#32
  | 104 => 0x3E93317F#32
  | 105 => 0x3F65BA74#32
  | 106 => 0xBF121A09#32
  | 107 => 0xBDB6843A#32
  | 108 => 0x3F66C83E#32
  | 109 => 0x3EE4A33C#32
  | 110 => 0x4040ECD9#32
  | 111 => 0xBE9A5E17#32
  | 112 => 0x3DBC0AF4#32
  | 113 => 0x3FCEF096#32
  | 114 => 0xBDD47A58#32
  | 115 => 0x3FD7F994#32
  | 116 => 0xBFA7B544#32
  | 117 => 0x3F42A48F#32
  | 118 => 0x40313D27#32
  | 119 => 0xBF398A5C#32
  | 120 => 0x3FCB1FBA#32
  | 121 => 0xBF477E29#32
  | 122 => 0x3F94C439#32
  | 123 => 0x401D5953#32
  | 124 => 0xBDC9D3A4#32
  | 125 => 0x3EBA1E68#32
  | 126 => 0x3E48D95E#32
  | 127 => 0xBDCD5F0C#32
  | _ => 0#32

noncomputable abbrev lit0t0_412 (i : Nat) : BitVec 32 := match i % 128 with
  | 0 => 0xBF10D5AB#32
  | 1 => 0x3E1E3893#32
  | 2 => 0x40027539#32
  | 3 => 0x3F557DB0#32
  | 4 => 0x3F716365#32
  | 5 => 0xBE1AB85B#32
  | 6 => 0xBF4FE426#32
  | 7 => 0x3FC57057#32
  | 8 => 0x3FA00888#32
  | 9 => 0xBE825817#32
  | 10 => 0x3FAF9199#32
  | 11 => 0xBF788D60#32
  | 12 => 0x3F666800#32
  | 13 => 0xBF10ED14#32
  | 14 => 0xBFC57BC9#32
  | 15 => 0x3FA6441D#32
  | 16 => 0x4027003F#32
  | 17 => 0xBE22C27D#32
  | 18 => 0x4076244A#32
  | 19 => 0x3E01769E#32
  | 20 => 0xBE5E3237#32
  | 21 => 0x40569CE9#32
  | 22 => 0x3E853C42#32
  | 23 => 0xBD4601EC#32
  | 24 => 0xBF450AB2#32
  | 25 => 0x3FAACDD4#32
  | 26 => 0x3EE290BC#32
  | 27 => 0x3F3CFDC9#32
  | 28 => 0xBE58EEF0#32
  | 29 => 0x405B44E5#32
  | 30 => 0xBFA73221#32
  | 31 => 0x40054AB3#32
  | 32 => 0x3F9F45D8#32
  | 33 => 0x40410471#32
  | 34 => 0xBF781280#32
  | 35 => 0x3ED72301#32
  | 36 => 0x3FA804DC#32
  | 37 => 0xBFB49CFC#32
  | 38 => 0x3E16C020#32
  | 39 => 0xBF7C8468#32
  | 40 => 0x3F5A6F60#32
  | 41 => 0x3EB915DB#32
  | 42 => 0x409AE07D#32
  | 43 => 0xBE0F70A5#32
  | 44 => 0xBEB4DCD2#32
  | 45 => 0x3FB0BCD0#32
  | 46 => 0x3F29ECC1#32
  | 47 => 0xBF164FCE#32
  | 48 => 0xBFB55E55#32
  | 49 => 0xBE894DD6#32
  | 50 => 0x3F740258#32
  | 51 => 0x3F59D5BA#32
  | 52 => 0xBF09CD05#32
  | 53 => 0x3F5CBD92#32
  | 54 => 0x3EF1C95E#32
  | 55 => 0x3E824F08#32
  | 56 => 0x40429C8F#32
  | 57 => 0xBE5F48F4#32
  | 58 => 0x3D8B912F#32
  | 59 => 0x4017C4C6#32
  | 60 => 0x3E97365B#32
  | 61 => 0xBE0A16D2#32
  | 62 => 0xBEE8DC71#32
  | 63 => 0x3F902769#32
  | 64 => 0x3F0DE9AD#32
  | 65 => 0x3F46F750#32
  | 66 => 0x3E91C344#32
  | 67 => 0x3F949F2A#32
  | 68 => 0xBED128EE#32
  | 69 => 0x3EE4A832#32
  | 70 => 0x3C15D9A6#32
  | 71 => 0x3E615D01#32
  | 72 => 0x3F32733D#32
  | 73 => 0xBE632891#32
  | 74 => 0xBF312CE8#32
  | 75 => 0xBFC9F0FF#32
  | 76 => 0xBF2D0C68#32
  | 77 => 0xBF5A8B6C#32
  | 78 => 0x3F549F18#32
  | 79 => 0xBE528D9F#32
  | 80 => 0x3F2C9D17#32
  | 81 => 0x4085A57A#32
  | 82 => 0x3FD9D73B#32
  | 83 => 0xBEDE73E9#32
  | 84 => 0xBF88674C#32
  | 85 => 0x3FFEA94C#32
  | 86 => 0x3EF07350#32
  | 87 => 0x3FF8BCE2#32
  | 88 => 0x3E4EBF5A#32
  | 89 => 0x3B6ADD9C#32
  | 90 => 0x3F8E5EC0#32
  | 91 => 0x3FB5F9CA#32
  | 92 => 0x403C1B15#32
  | 93 => 0x4034FF9C#32
  | 94 => 0x3F35C9AE#32
  | 95 => 0x4030950D#32
  | 96 => 0x3D3BAEC8#32
  | 97 => 0x3FCCB808#32
  | 98 => 0x3DFAADA5#32
  | 99 => 0xBF987697#32
  | 100 => 0x3E2ED604#32
  | 101 => 0x3F45DFFA#32
  | 102 => 0x3F16771E#32
  | 103 => 0x3FA7AF1C#32
  | 104 => 0xBF3FFF4F#32
  | 105 => 0xBF8F22D8#32
  | 106 => 0x3E5455A3#32
  | 107 => 0x40295656#32
  | 108 => 0x3E011416#32
  | 109 => 0x3F4BF2F9#32
  | 110 => 0x3EA78A89#32
  | 111 => 0x3FBF256D#32
  | 112 => 0xBF9A5507#32
  | 113 => 0xBEB982D6#32
  | 114 => 0xBF8985DD#32
  | 115 => 0xBE215B67#32
  | 116 => 0x3FF1F587#32
  | 117 => 0xBB1BA6A5#32
  | 118 => 0x40582A38#32
  | 119 => 0x3F9BA78D#32
  | 120 => 0x3F19AA6B#32
  | 121 => 0xBF323F40#32
  | 122 => 0x3F4D0ABA#32
  | 123 => 0xBF8C9475#32
  | 124 => 0xBEEA4757#32
  | 125 => 0xBF53E583#32
  | 126 => 0x404D432F#32
  | 127 => 0x4016B558#32
  | _ => 0#32

noncomputable abbrev lit0t0_413 (i : Nat) : BitVec 32 := match i % 128 with
  | 0 => 0xBEC7FE44#32
  | 1 => 0xBF6D4FEE#32
  | 2 => 0xBE52B5C4#32
  | 3 => 0x3EB60639#32
  | 4 => 0x400681B0#32
  | 5 => 0xBE5E5675#32
  | 6 => 0x3FEC7441#32
  | 7 => 0xBEB80D78#32
  | 8 => 0x3DAA2FFE#32
  | 9 => 0xBF67FD22#32
  | 10 => 0x3E0CC581#32
  | 11 => 0x3FBC4A1F#32
  | 12 => 0xBD0866F1#32
  | 13 => 0x40047DE4#32
  | 14 => 0x3F5182B6#32
  | 15 => 0x3FAB3FE8#32
  | 16 => 0x3FDD365E#32
  | 17 => 0xBC8D3468#32
  | 18 => 0x3FD7ECCE#32
  | 19 => 0x3EC36FD1#32
  | 20 => 0x3F701DAC#32
  | 21 => 0x3E4EDA1B#32
  | 22 => 0xBE67C8D7#32
  | 23 => 0xBF85E5C7#32
  | 24 => 0x40141595#32
  | 25 => 0xBEAFC8EB#32
  | 26 => 0x3FEB8385#32
  | 27 => 0x400AC7E4#32
  | 28 => 0x3F72266A#32
  | 29 => 0xBEE93562#32
  | 30 => 0x3EB2D567#32
  | 31 => 0xBEC6DAA0#32
  | 32 => 0x3FF4BED9#32
  | 33 => 0xBFA49DD4#32
  | 34 => 0xBEB7C94E#32
  | 35 => 0x3F2DD57A#32
  | 36 => 0x3E7D06F4#32
  | 37 => 0x3F4AABFB#32
  | 38 => 0x40887664#32
  | 39 => 0x3E93DC26#32
  | 40 => 0x3C9E925E#32
  | 41 => 0x3F92E712#32
  | 42 => 0x3EF3BDF4#32
  | 43 => 0xBE29BD59#32
  | 44 => 0x3F8CBD19#32
  | 45 => 0x3F3A7056#32
  | 46 => 0x3EA366A3#32
  | 47 => 0x40580BDF#32
  | 48 => 0xBF1135A2#32
  | 49 => 0x3FD7F56A#32
  | 50 => 0x40143F47#32
  | 51 => 0x3FA14F97#32
  | 52 => 0x3E7E006F#32
  | 53 => 0xBF4B1957#32
  | 54 => 0x3F45E9C0#32
  | 55 => 0x3FD35519#32
  | 56 => 0x3F339F14#32
  | 57 => 0xBEAABBD0#32
  | 58 => 0xBE61AC1F#32
  | 59 => 0x3FC8A853#32
  | 60 => 0xBF79FCC6#32
  | 61 => 0x40178DCC#32
  | 62 => 0xBEA724FB#32
  | 63 => 0x3F9FD50E#32
  | 64 => 0x40002D06#32
  | 65 => 0x3F251F60#32
  | 66 => 0x3FE9C7D2#32
  | 67 => 0x3E1AD913#32
  | 68 => 0xBE8591BD#32
  | 69 => 0x3EF7C4FE#32
  | 70 => 0x404B8542#32
  | 71 => 0x3EE03DE4#32
  | 72 => 0xBF5556EC#32
  | 73 => 0x3F2726AD#32
  | 74 => 0xBDB40185#32
  | 75 => 0xBDB4906E#32
  | 76 => 0xBF47BCDF#32
  | 77 => 0xBF70A1FE#32
  | 78 => 0x3FC05BB8#32
  | 79 => 0xBF578420#32
  | 80 => 0x400B9845#32
  | 81 => 0x3FD2297E#32
  | 82 => 0x3FDAC9A5#32
  | 83 => 0x3DD65E48#32
  | 84 => 0xBF08B070#32
  | 85 => 0x40376BE1#32
  | 86 => 0xBE52DCC9#32
  | 87 => 0x3F6BD17D#32
  | 88 => 0xBD6ADAEC#32
  | 89 => 0x40171A5D#32
  | 90 => 0x3F14AC54#32
  | 91 => 0xBF898A66#32
  | 92 => 0x4036234F#32
  | 93 => 0xBF8321EC#32
  | 94 => 0xBF8E1ED2#32
  | 95 => 0x3F994BEB#32
  | 96 => 0xBF84E3A9#32
  | 97 => 0xBF61C3A0#32
  | 98 => 0x3F2B22F5#32
  | 99 => 0x3F750403#32
  | 100 => 0x3EBBCBBF#32
  | 101 => 0xBE102FDF#32
  | 102 => 0x3C7BB7FE#32
  | 103 => 0x4005FA0A#32
  | 104 => 0x4059EFE2#32
  | 105 => 0x3E80A574#32
  | 106 => 0x3CA806C4#32
  | 107 => 0xBF0BB6DA#32
  | 108 => 0x3F03A382#32
  | 109 => 0xBE0D6129#32
  | 110 => 0x4085366A#32
  | 111 => 0xBF19B8BB#32
  | 112 => 0x3EBC4AA4#32
  | 113 => 0x3E806FF0#32
  | 114 => 0x3FAD8FC0#32
  | 115 => 0xBEBC4FEE#32
  | 116 => 0xBF76AF4C#32
  | 117 => 0xBDF6BAC7#32
  | 118 => 0x4028AB5D#32
  | 119 => 0x3F59D2BF#32
  | 120 => 0x3FB7EBFF#32
  | 121 => 0x3F79A3B4#32
  | 122 => 0xBEE0DAB8#32
  | 123 => 0x3F8E8FA5#32
  | 124 => 0x40686997#32
  | 125 => 0xBF5B2F7A#32
  | 126 => 0x400A8DF2#32
  | 127 => 0xBF1645F6#32
  | _ => 0#32

noncomputable abbrev lit0t0_414 (i : Nat) : BitVec 32 := match i % 128 with
  | 0 => 0xBE5BBC8D#32
  | 1 => 0xBF336E78#32
  | 2 => 0xBCA71EDF#32
  | 3 => 0x3F840E6B#32
  | 4 => 0xBD9967C1#32
  | 5 => 0x3F950CB6#32
  | 6 => 0x3F801300#32
  | 7 => 0x3E81725A#32
  | 8 => 0x3FEFDDB8#32
  | 9 => 0x3D8CA1F9#32
  | 10 => 0x3FFE2F58#32
  | 11 => 0x3D1C17B3#32
  | 12 => 0x3F7B69B4#32
  | 13 => 0x4035C00E#32
  | 14 => 0x400B5930#32
  | 15 => 0x3DBB5ED0#32
  | 16 => 0x404A37EC#32
  | 17 => 0x3F213BA5#32
  | 18 => 0x3F5932CE#32
  | 19 => 0xBF7B1676#32
  | 20 => 0x4066F208#32
  | 21 => 0x40B1B973#32
  | 22 => 0x3DC1A775#32
  | 23 => 0x40082FAA#32
  | 24 => 0x3F8D1BF5#32
  | 25 => 0x3F11523E#32
  | 26 => 0xBE76E9D4#32
  | 27 => 0xBEB199D1#32
  | 28 => 0x3F44E391#32
  | 29 => 0xBF7CB7B0#32
  | 30 => 0x3E4A9A54#32
  | 31 => 0x400B0D08#32
  | 32 => 0xBF4CF488#32
  | 33 => 0xBEE5E290#32
  | 34 => 0x401D04C7#32
  | 35 => 0x3F111A3C#32
  | 36 => 0x3FCA445F#32
  | 37 => 0xBEC555BA#32
  | 38 => 0x3FAD42FE#32
  | 39 => 0x4010B505#32
  | 40 => 0x3F793AEA#32
  | 41 => 0x3E806F27#32
  | 42 => 0x3E866071#32
  | 43 => 0xBF82ADED#32
  | 44 => 0x3ED75663#32
  | 45 => 0xBE25178D#32
  | 46 => 0xBD8C67A3#32
  | 47 => 0x3ED34575#32
  | 48 => 0x3F8A15B8#32
  | 49 => 0x3F21B2D7#32
  | 50 => 0xBF413B16#32
  | 51 => 0x3F589316#32
  | 52 => 0x405DA53A#32
  | 53 => 0x3F8395E4#32
  | 54 => 0xBFA26E9F#32
  | 55 => 0x4069A5E5#32
  | 56 => 0x3F98E1C0#32
  | 57 => 0xBF1201D0#32
  | 58 => 0x3EA110E8#32
  | 59 => 0xBFA70FD3#32
  | 60 => 0x3FB3A670#32
  | 61 => 0xBF068AD6#32
  | 62 => 0x402B6F65#32
  | 63 => 0x3F528481#32
  | 64 => 0x3F6BE9F4#32
  | 65 => 0x3F58D1D3#32
  | 66 => 0x3E819719#32
  | 67 => 0xBDDDC97B#32
  | 68 => 0xBF666BD1#32
  | 69 => 0xBE0992C1#32
  | 70 => 0x3F37AF90#32
  | 71 => 0x3EA516AA#32
  | 72 => 0x3F9CCC07#32
  | 73 => 0xBF88E23C#32
  | 74 => 0x40D7481F#32
  | 75 => 0xBEC91CD7#32
  | 76 => 0x3EB60239#32
  | 77 => 0xBE1BB289#32
  | 78 => 0x3F8A6CDD#32
  | 79 => 0x3FAADAF4#32
  | 80 => 0x408D4F90#32
  | 81 => 0x3EB92322#32
  | 82 => 0xBF351BA3#32
  | 83 => 0x404FB65A#32
  | 84 => 0xBEB6266F#32
  | 85 => 0xBF6E7C6C#32
  | 86 => 0xBF0F8ADA#32
  | 87 => 0x3EE7E47C#32
  | 88 => 0x3F1743AA#32
  | 89 => 0x3F96354A#32
  | 90 => 0xBE74F610#32
  | 91 => 0x3F015E1F#32
  | 92 => 0x3F06EF83#32
  | 93 => 0x3F9817DE#32
  | 94 => 0x3F5B2666#32
  | 95 => 0x405C6F03#32
  | 96 => 0x4045D08D#32
  | 97 => 0x3FD2243A#32
  | 98 => 0xBDDAD4DA#32
  | 99 => 0xBF837976#32
  | 100 => 0xBF190DD4#32
  | 101 => 0xBF74C2E4#32
  | 102 => 0xBEEDBECD#32
  | 103 => 0xBE6554FB#32
  | 104 => 0xBEAA4BE9#32
  | 105 => 0x400D6527#32
  | 106 => 0xBF486A1A#32
  | 107 => 0x3FAC353A#32
  | 108 => 0x401970A0#32
  | 109 => 0xBF31146E#32
  | 110 => 0x3F82EF02#32
  | 111 => 0xBDE1C301#32
  | 112 => 0xBF12C0E4#32
  | 113 => 0x3F1C4624#32
  | 114 => 0xBEAE6E0C#32
  | 115 => 0x3F7C40F4#32
  | 116 => 0x3F8B8851#32
  | 117 => 0x3E805C92#32
  | 118 => 0xBF9F96A4#32
  | 119 => 0xBEC3ED41#32
  | 120 => 0x3F2DDE1A#32
  | 121 => 0x3F9DDB90#32
  | 122 => 0x3CED9F08#32
  | 123 => 0x3FC1C059#32
  | 124 => 0x3E7FC03A#32
  | 125 => 0x40123330#32
  | 126 => 0x3D828B56#32
  | 127 => 0x3F7FF837#32
  | _ => 0#32

noncomputable abbrev lit0t0_415 (i : Nat) : BitVec 32 := match i % 128 with
  | 0 => 0x3E8C3D62#32
  | 1 => 0x3ED12037#32
  | 2 => 0xBF586169#32
  | 3 => 0x3E82628A#32
  | 4 => 0xBE8B3710#32
  | 5 => 0x3F258AAB#32
  | 6 => 0xBDEDF12C#32
  | 7 => 0xBF7345C0#32
  | 8 => 0x4059BCD0#32
  | 9 => 0x40C23D80#32
  | 10 => 0xBED9E063#32
  | 11 => 0x3E971FAE#32
  | 12 => 0x400AF2E0#32
  | 13 => 0x3F1C3C23#32
  | 14 => 0x3FFD37A0#32
  | 15 => 0x400F71D7#32
  | 16 => 0xBE0B7C32#32
  | 17 => 0xBFC59031#32
  | 18 => 0x40099AC0#32
  | 19 => 0xBF133329#32
  | 20 => 0xBD2B85E7#32
  | 21 => 0x3FF05522#32
  | 22 => 0x3FE07F98#32
  | 23 => 0x4018E1C3#32
  | 24 => 0xBF85549B#32
  | 25 => 0xBED77D7E#32
  | 26 => 0x3E80BCC4#32
  | 27 => 0xBF3B3F35#32
  | 28 => 0x4006121B#32
  | 29 => 0x3FFA6338#32
  | 30 => 0xBEC11586#32
  | 31 => 0x3F780AB6#32
  | 32 => 0xBE88498E#32
  | 33 => 0xBF6C3C8D#32
  | 34 => 0xBEDDBD2B#32
  | 35 => 0xBEE01966#32
  | 36 => 0xBF5DB9F3#32
  | 37 => 0xBEDD0BD3#32
  | 38 => 0x3FE84B8C#32
  | 39 => 0x3FB24009#32
  | 40 => 0x3ED2E6BF#32
  | 41 => 0xBF3730AC#32
  | 42 => 0x3F8E0835#32
  | 43 => 0xBD88DC8A#32
  | 44 => 0x3F9E5E0C#32
  | 45 => 0x401EF3F0#32
  | 46 => 0x3EE497FA#32
  | 47 => 0x3EE800E4#32
  | 48 => 0xBF2C3C29#32
  | 49 => 0x3FFDE3AE#32
  | 50 => 0x3F0F8EEC#32
  | 51 => 0x3F72366E#32
  | 52 => 0x3F4F343A#32
  | 53 => 0xBB651165#32
  | 54 => 0xBD3FBD3D#32
  | 55 => 0x3E85AFB9#32
  | 56 => 0x40811335#32
  | 57 => 0xBF9811D4#32
  | 58 => 0x3FB0F37E#32
  | 59 => 0x3F8FC1D6#32
  | 60 => 0xBF850770#32
  | 61 => 0x400D815A#32
  | 62 => 0x3F9BCDE0#32
  | 63 => 0xBF3A643A#32
  | 64 => 0x3E304F8C#32
  | 65 => 0xBF3413F2#32
  | 66 => 0x3F1FB6C8#32
  | 67 => 0x3FD092BE#32
  | 68 => 0x3E210B03#32
  | 69 => 0xBF0EDE09#32
  | 70 => 0x3FDAC34E#32
  | 71 => 0xBF6553AA#32
  | 72 => 0xBF034396#32
  | 73 => 0xBF7F889F#32
  | 74 => 0x3E4E3664#32
  | 75 => 0xBEFB2C11#32
  | 76 => 0xBEE0B8A5#32
  | 77 => 0xBF65EAC6#32
  | 78 => 0xBF0D2CF4#32
  | 79 => 0x3EB653BC#32
  | 80 => 0x40B4F79A#32
  | 81 => 0x3BAED12A#32
  | 82 => 0x3F40E842#32
  | 83 => 0x3FB0BF45#32
  | 84 => 0x3E145D67#32
  | 85 => 0xBE147A06#32
  | 86 => 0xBFEF4E6A#32
  | 87 => 0x3E9F685D#32
  | 88 => 0x3EF348EF#32
  | 89 => 0xBEFB82A3#32
  | 90 => 0x3E9785A1#32
  | 91 => 0x3DDEEAC1#32
  | 92 => 0x3F150E18#32
  | 93 => 0x3CCF497F#32
  | 94 => 0xBF246475#32
  | 95 => 0xBF426F99#32
  | 96 => 0xBEACE278#32
  | 97 => 0xBF329C24#32
  | 98 => 0x3ED6BBEF#32
  | 99 => 0x401B97FA#32
  | 100 => 0x3FB6E36E#32
  | 101 => 0xBC506F25#32
  | 102 => 0xBF190FE5#32
  | 103 => 0xBF29AA77#32
  | 104 => 0x4000706C#32
  | 105 => 0x3DBE04C5#32
  | 106 => 0xBE79D75C#32
  | 107 => 0x3E7D4E3E#32
  | 108 => 0x3FE776DA#32
  | 109 => 0x3F38C39D#32
  | 110 => 0x40718542#32
  | 111 => 0xBF64B4C7#32
  | 112 => 0x40817C26#32
  | 113 => 0x3EE586E7#32
  | 114 => 0xBF013BE2#32
  | 115 => 0xBF6AD5FE#32
  | 116 => 0x3DEE3553#32
  | 117 => 0x3E429CA0#32
  | 118 => 0x3D8ADDB4#32
  | 119 => 0x40889D03#32
  | 120 => 0x401DC98E#32
  | 121 => 0x3A59971C#32
  | 122 => 0xBF363F2B#32
  | 123 => 0xBE840D53#32
  | 124 => 0x3D94E14C#32
  | 125 => 0xBFE3BD5E#32
  | 126 => 0x4054BFB6#32
  | 127 => 0x3DF16331#32
  | _ => 0#32

noncomputable abbrev lit0t0_416 (i : Nat) : BitVec 32 := match i % 128 with
  | 0 => 0x4047825B#32
  | 1 => 0x3F5C063B#32
  | 2 => 0x4063B7E6#32
  | 3 => 0xBE5F04B8#32
  | 4 => 0x3C95187D#32
  | 5 => 0x3F51C4EF#32
  | 6 => 0x3FC229BC#32
  | 7 => 0xBE5DD2E2#32
  | 8 => 0x3FEE7F4E#32
  | 9 => 0x3F4E7235#32
  | 10 => 0x3FB30282#32
  | 11 => 0xBE75C34D#32
  | 12 => 0x402AECEB#32
  | 13 => 0xBEC4E3EB#32
  | 14 => 0xBF44927C#32
  | 15 => 0x3E87D384#32
  | 16 => 0x3F4595FF#32
  | 17 => 0x3E89F500#32
  | 18 => 0x3F73BBEC#32
  | 19 => 0x3CC2AF4F#32
  | 20 => 0x3FD090DA#32
  | 21 => 0x3F873397#32
  | 22 => 0xBDFFBE68#32
  | 23 => 0xBEF17FA0#32
  | 24 => 0x3F09DEC1#32
  | 25 => 0xBFDBAA0F#32
  | 26 => 0x4097D28A#32
  | 27 => 0x400BFA6D#32
  | 28 => 0x3F176F55#32
  | 29 => 0x3F03A0D8#32
  | 30 => 0x40A62B24#32
  | 31 => 0x401971E5#32
  | 32 => 0xBF95E035#32
  | 33 => 0xBEDEBBAC#32
  | 34 => 0x3ECC5B43#32
  | 35 => 0x3F2DA31E#32
  | 36 => 0x3F9806A5#32
  | 37 => 0x3E02F6D2#32
  | 38 => 0xBEA6FDE7#32
  | 39 => 0x3EF1A08F#32
  | 40 => 0xBFA33BC6#32
  | 41 => 0x3FD206F5#32
  | 42 => 0x405AA402#32
  | 43 => 0xBF5A6F3A#32
  | 44 => 0x400825BA#32
  | 45 => 0x3FDA2461#32
  | 46 => 0xBD6785E6#32
  | 47 => 0x401D14B3#32
  | 48 => 0xBF40FD54#32
  | 49 => 0x3F13624E#32
  | 50 => 0x408021EA#32
  | 51 => 0x3D93D24E#32
  | 52 => 0x3D9B85EA#32
  | 53 => 0x3F82FCD5#32
  | 54 => 0x3E75986D#32
  | 55 => 0xBF36B092#32
  | 56 => 0xBEAC3910#32
  | 57 => 0x3F31A5E9#32
  | 58 => 0x3E92B5C1#32
  | 59 => 0x3E7FC562#32
  | 60 => 0xBE230010#32
  | 61 => 0xBF297FA0#32
  | 62 => 0xBE2D607D#32
  | 63 => 0x3F2C371E#32
  | 64 => 0x3F74BF18#32
  | 65 => 0x3FA866D3#32
  | 66 => 0xBD826F97#32
  | 67 => 0x3F643688#32
  | 68 => 0xBECFAECF#32
  | 69 => 0x3F5D132E#32
  | 70 => 0x3F86331F#32
  | 71 => 0xBF98E1B0#32
  | 72 => 0x3F2630E6#32
  | 73 => 0x3FBEC0CB#32
  | 74 => 0x3E23449A#32
  | 75 => 0xBCF43937#32
  | 76 => 0x3F3A9240#32
  | 77 => 0xBF952CAD#32
  | 78 => 0xBDDBFE48#32
  | 79 => 0xBE6C060C#32
  | 80 => 0xBC4C34DC#32
  | 81 => 0xBF5E5EDE#32
  | 82 => 0xBEC35A23#32
  | 83 => 0x40062F5D#32
  | 84 => 0xBF8B0DAA#32
  | 85 => 0xBEC3632F#32
  | 86 => 0xBF754FC4#32
  | 87 => 0x3FA7BF00#32
  | 88 => 0x3FFB14D0#32
  | 89 => 0xBF5D664B#32
  | 90 => 0x3FC53561#32
  | 91 => 0x3FCCFEC1#32
  | 92 => 0xBECE042F#32
  | 93 => 0x3EE2E493#32
  | 94 => 0x3FB59888#32
  | 95 => 0x3F47B3BE#32
  | 96 => 0xBCB9AFAB#32
  | 97 => 0x3FDB7F20#32
  | 98 => 0xBF0B9EA6#32
  | 99 => 0x3E94453D#32
  | 100 => 0xBF147642#32
  | 101 => 0x3F8E12F0#32
  | 102 => 0xBFD5BC2B#32
  | 103 => 0x3FE6B204#32
  | 104 => 0x3FA681FC#32
  | 105 => 0x3FB9CC2D#32
  | 106 => 0xBF6ED480#32
  | 107 => 0x3F673EF4#32
  | 108 => 0x3F6B0F5C#32
  | 109 => 0xBF0FF664#32
  | 110 => 0xBE9E89DB#32
  | 111 => 0x3F8027E3#32
  | 112 => 0x3F0D1D92#32
  | 113 => 0x3EBB896D#32
  | 114 => 0xBF167D82#32
  | 115 => 0x3F6BD48F#32
  | 116 => 0xBF6C5B84#32
  | 117 => 0x3F6EF011#32
  | 118 => 0xBE77428E#32
  | 119 => 0xBF606EDB#32
  | 120 => 0x3F97C9C7#32
  | 121 => 0xBFA1E3B4#32
  | 122 => 0xBFA591F7#32
  | 123 => 0x402E1490#32
  | 124 => 0x3DD1EA28#32
  | 125 => 0x4063884A#32
  | 126 => 0x3F0AAF3F#32
  | 127 => 0x3FEA5597#32
  | _ => 0#32

noncomputable abbrev lit0t0_417 (i : Nat) : BitVec 32 := match i % 128 with
  | 0 => 0x3F8DA4D0#32
  | 1 => 0x3FA942C6#32
  | 2 => 0xBEAB0E19#32
  | 3 => 0x403D81E1#32
  | 4 => 0x3EE52B71#32
  | 5 => 0xBF38AE52#32
  | 6 => 0x400EB44D#32
  | 7 => 0x3FC9ADF2#32
  | 8 => 0x403750EA#32
  | 9 => 0x3FBC576A#32
  | 10 => 0x3E58F096#32
  | 11 => 0x3F6C4FF4#32
  | 12 => 0x3F9D6A97#32
  | 13 => 0x3F815926#32
  | 14 => 0xBF633BC5#32
  | 15 => 0x3F0086FE#32
  | 16 => 0xBF84AA7F#32
  | 17 => 0x3F2FD325#32
  | 18 => 0xBD2EA996#32
  | 19 => 0xBD5DBFA1#32
  | 20 => 0xBF614864#32
  | 21 => 0x3F9ACD78#32
  | 22 => 0x3F5806EA#32
  | 23 => 0xBE56C7E0#32
  | 24 => 0xBF1ABF5A#32
  | 25 => 0x3E818D37#32
  | 26 => 0x3FED2B24#32
  | 27 => 0xBED07D87#32
  | 28 => 0x3EBB20B6#32
  | 29 => 0x402482CF#32
  | 30 => 0x3BA80D21#32
  | 31 => 0xBF78A918#32
  | 32 => 0xBF2C8F32#32
  | 33 => 0x3FB827BD#32
  | 34 => 0x3FB4C702#32
  | 35 => 0x3EB9D300#32
  | 36 => 0x3F6C6B40#32
  | 37 => 0xBF1ED6A5#32
  | 38 => 0xBFACE786#32
  | 39 => 0x3FA449E9#32
  | 40 => 0x403E96C8#32
  | 41 => 0x3E086C40#32
  | 42 => 0xBE315F8F#32
  | 43 => 0x3FFAB220#32
  | 44 => 0xBF3E2BA3#32
  | 45 => 0xBF9423B0#32
  | 46 => 0x4054B516#32
  | 47 => 0xBF815666#32
  | 48 => 0x3FD6DA66#32
  | 49 => 0x3FC93128#32
  | 50 => 0xBF677EEC#32
  | 51 => 0x3F6D1CB4#32
  | 52 => 0xBD8711F4#32
  | 53 => 0xBDF5874B#32
  | 54 => 0xBF4E025B#32
  | 55 => 0x3F9E7EE0#32
  | 56 => 0x3FB259F1#32
  | 57 => 0x3F8B7185#32
  | 58 => 0xBF1AD1DA#32
  | 59 => 0x402208B9#32
  | 60 => 0xBEB918E5#32
  | 61 => 0xBF5C8F8E#32
  | 62 => 0xBDDCF924#32
  | 63 => 0xBF0C534D#32
  | 64 => 0x3E75BCA1#32
  | 65 => 0x3F118C1F#32
  | 66 => 0xBEE4C5BA#32
  | 67 => 0x3D233A69#32
  | 68 => 0x3FBB7E54#32
  | 69 => 0x3DA3BC94#32
  | 70 => 0xBEA0FFBD#32
  | 71 => 0x3DE2F12F#32
  | 72 => 0x3F784A00#32
  | 73 => 0x3D194677#32
  | 74 => 0x3FBA2B09#32
  | 75 => 0x4003C609#32
  | 76 => 0x3E813475#32
  | 77 => 0xBF23DB5E#32
  | 78 => 0x3EE5A004#32
  | 79 => 0x3F9ACA74#32
  | 80 => 0x3F5608A8#32
  | 81 => 0xBD1BC940#32
  | 82 => 0x3EAA2305#32
  | 83 => 0x3F5BA7D0#32
  | 84 => 0x3F8B7BCC#32
  | 85 => 0xBEA7E8F7#32
  | 86 => 0x3FDF510C#32
  | 87 => 0xBE9D708B#32
  | 88 => 0x3F486284#32
  | 89 => 0x3EACD75F#32
  | 90 => 0x3F1BAEAD#32
  | 91 => 0xBF58BFE2#32
  | 92 => 0x3E714761#32
  | 93 => 0x3E8E2B5C#32
  | 94 => 0x407F6796#32
  | 95 => 0x3F7584E2#32
  | 96 => 0xBF30269E#32
  | 97 => 0x3F8713DF#32
  | 98 => 0xBED58C1E#32
  | 99 => 0xBF3FFD22#32
  | 100 => 0xBF742D37#32
  | 101 => 0xBF368ACB#32
  | 102 => 0x3FEF5E98#32
  | 103 => 0x3F3C0B1F#32
  | 104 => 0xBE87DD0B#32
  | 105 => 0x4000AEEC#32
  | 106 => 0x3EF73E2C#32
  | 107 => 0xBF27854F#32
  | 108 => 0xBD80993C#32
  | 109 => 0x3F3AB56F#32
  | 110 => 0xBE9475A0#32
  | 111 => 0x3FC50590#32
  | 112 => 0x3E0F2330#32
  | 113 => 0xBFDD8E60#32
  | 114 => 0xBE2E40FD#32
  | 115 => 0xBF8427D5#32
  | 116 => 0xBF82D2F1#32
  | 117 => 0x4009FA7B#32
  | 118 => 0xBF2B4A15#32
  | 119 => 0x3FB64917#32
  | 120 => 0x3F28F7DF#32
  | 121 => 0x3F85AF36#32
  | 122 => 0x3FD513D3#32
  | 123 => 0x4004AB35#32
  | 124 => 0x40853B21#32
  | 125 => 0x3E898D4B#32
  | 126 => 0x401F624D#32
  | 127 => 0xBEAB11D0#32
  | _ => 0#32

noncomputable abbrev lit0t0_418 (i : Nat) : BitVec 32 := match i % 128 with
  | 0 => 0x3CC55DCA#32
  | 1 => 0x4020DA3C#32
  | 2 => 0x3DDA9F8D#32
  | 3 => 0xBE5740C8#32
  | 4 => 0x3F94513A#32
  | 5 => 0xBC49AB74#32
  | 6 => 0x3FF6C721#32
  | 7 => 0x3E9ABB26#32
  | 8 => 0x3FBFEDEC#32
  | 9 => 0x3DE2EC67#32
  | 10 => 0x3FA4A54F#32
  | 11 => 0x3F169916#32
  | 12 => 0xBF9DA4D5#32
  | 13 => 0xBE0F6ACD#32
  | 14 => 0x3FDFB4C2#32
  | 15 => 0x40565FB5#32
  | 16 => 0x3DB09F6D#32
  | 17 => 0xBF18BCD0#32
  | 18 => 0xBE540B95#32
  | 19 => 0xBCE997C0#32
  | 20 => 0xBE1E9F53#32
  | 21 => 0x405B7162#32
  | 22 => 0x40245B2A#32
  | 23 => 0x3E20BE6C#32
  | 24 => 0x3F14F912#32
  | 25 => 0x3F32086C#32
  | 26 => 0x3F3A979A#32
  | 27 => 0x3F07B416#32
  | 28 => 0x3D4502B2#32
  | 29 => 0xBE436635#32
  | 30 => 0x3F812340#32
  | 31 => 0x401C1DF0#32
  | 32 => 0x4083356B#32
  | 33 => 0xBEE335F8#32
  | 34 => 0x3F71318C#32
  | 35 => 0x3F5887EE#32
  | 36 => 0x3DAB5638#32
  | 37 => 0xBEFB1A0A#32
  | 38 => 0xBE69A95B#32
  | 39 => 0xBE4FC76A#32
  | 40 => 0x405FFED5#32
  | 41 => 0x3F17794C#32
  | 42 => 0x402EBFF6#32
  | 43 => 0x3FE2079B#32
  | 44 => 0x4075FECA#32
  | 45 => 0x3E530D61#32
  | 46 => 0xBF07F14E#32
  | 47 => 0x3F3A7041#32
  | 48 => 0xBEF19C1A#32
  | 49 => 0x3D056280#32
  | 50 => 0xBF1C3CBC#32
  | 51 => 0xBFD2EED0#32
  | 52 => 0x3F9CB6A6#32
  | 53 => 0x3EF054DE#32
  | 54 => 0x3F238A7C#32
  | 55 => 0xBEA5BC29#32
  | 56 => 0xBE0B931A#32
  | 57 => 0x3F4673E9#32
  | 58 => 0x3E967FEC#32
  | 59 => 0x3E3B5A9A#32
  | 60 => 0x40170588#32
  | 61 => 0x3FA733A5#32
  | 62 => 0xBF0CF4B7#32
  | 63 => 0x3FCFBD52#32
  | 64 => 0x3F91F174#32
  | 65 => 0x3F22A7FC#32
  | 66 => 0xBE1A1636#32
  | 67 => 0xBF441169#32
  | 68 => 0xBE046F98#32
  | 69 => 0x4005E076#32
  | 70 => 0x3F447635#32
  | 71 => 0xBF2FFE91#32
  | 72 => 0x3F496349#32
  | 73 => 0x3FA7D9B3#32
  | 74 => 0x3F8D1D66#32
  | 75 => 0xBEAFBAA9#32
  | 76 => 0x3F77EEC3#32
  | 77 => 0x408779FE#32
  | 78 => 0xBEBB3483#32
  | 79 => 0xBB6A2AC6#32
  | 80 => 0x3EDD3976#32
  | 81 => 0x3FD45E7E#32
  | 82 => 0x400DD4ED#32
  | 83 => 0x3EAB7411#32
  | 84 => 0xBC096222#32
  | 85 => 0xBF8F593C#32
  | 86 => 0x3F31882D#32
  | 87 => 0xBFA43013#32
  | 88 => 0x3E1F1699#32
  | 89 => 0x3FC6B4AF#32
  | 90 => 0xBFA70D49#32
  | 91 => 0xBFBA119F#32
  | 92 => 0xBEBE1D93#32
  | 93 => 0x3FE864FE#32
  | 94 => 0x3FDC559C#32
  | 95 => 0x400E853A#32
  | 96 => 0x3FC2DC68#32
  | 97 => 0x3D4E8166#32
  | 98 => 0x3E280A2B#32
  | 99 => 0x3FE75D32#32
  | 100 => 0x3FF07C1B#32
  | 101 => 0xBCD28970#32
  | 102 => 0x3DFDF9D9#32
  | 103 => 0xBF28288E#32
  | 104 => 0xBF0E0693#32
  | 105 => 0x3F605498#32
  | 106 => 0x3F2CA9A5#32
  | 107 => 0x3E2ADE21#32
  | 108 => 0x3F376A3B#32
  | 109 => 0x3D7046A0#32
  | 110 => 0x400C313C#32
  | 111 => 0x3F582DA1#32
  | 112 => 0x3F9B70E7#32
  | 113 => 0x3E53F587#32
  | 114 => 0x400A9032#32
  | 115 => 0xBEF8A427#32
  | 116 => 0xBF8BA58B#32
  | 117 => 0x3FC9AE39#32
  | 118 => 0x3E6C0408#32
  | 119 => 0x3F755D16#32
  | 120 => 0x3F4C39C4#32
  | 121 => 0x3FC3C9D3#32
  | 122 => 0x3F1774A9#32
  | 123 => 0x3FB064BA#32
  | 124 => 0x3F3CAC7C#32
  | 125 => 0x3F8395C0#32
  | 126 => 0xBF2CD239#32
  | 127 => 0xBEEAFE80#32
  | _ => 0#32

noncomputable abbrev lit0t0_419 (i : Nat) : BitVec 32 := match i % 128 with
  | 0 => 0x3F21C83E#32
  | 1 => 0xBFBD2059#32
  | 2 => 0x3FD978B6#32
  | 3 => 0x3FB08670#32
  | 4 => 0xBE3491A9#32
  | 5 => 0xBE6CCD21#32
  | 6 => 0x3FB20309#32
  | 7 => 0x402086DC#32
  | 8 => 0x3F818445#32
  | 9 => 0x3EC94ECE#32
  | 10 => 0x3FEAEB24#32
  | 11 => 0x3E171410#32
  | 12 => 0x3F139705#32
  | 13 => 0xBFB14AF5#32
  | 14 => 0x3EEEA62C#32
  | 15 => 0xBE9BF5BA#32
  | 16 => 0x3FA1FD57#32
  | 17 => 0x3EEA2C68#32
  | 18 => 0xBF792484#32
  | 19 => 0x3A3DA58E#32
  | 20 => 0x3FFD6AE0#32
  | 21 => 0x409E861E#32
  | 22 => 0xBF7895AB#32
  | 23 => 0xBF93E5DF#32
  | 24 => 0xBF258C82#32
  | 25 => 0x3F8CEB0E#32
  | 26 => 0x40015FF4#32
  | 27 => 0xBE987214#32
  | 28 => 0x3F93A1CC#32
  | 29 => 0xBD6F49AF#32
  | 30 => 0x408BDBDF#32
  | 31 => 0xBF7F6D74#32
  | 32 => 0x3F257D24#32
  | 33 => 0xBF40F456#32
  | 34 => 0xBCD18477#32
  | 35 => 0x3FEACE35#32
  | 36 => 0x3FDEE82C#32
  | 37 => 0x3F314C8B#32
  | 38 => 0x3D97BADC#32
  | 39 => 0x4013D04F#32
  | 40 => 0x3E88C2B0#32
  | 41 => 0xBEBF8115#32
  | 42 => 0x3FB94BFE#32
  | 43 => 0x3E0BF45F#32
  | 44 => 0x3E79700D#32
  | 45 => 0x40024131#32
  | 46 => 0xBE00AFFE#32
  | 47 => 0x3E8FAC76#32
  | 48 => 0xBEA7E0CD#32
  | 49 => 0x3E640DD2#32
  | 50 => 0x40086D9B#32
  | 51 => 0xBEB6DB62#32
  | 52 => 0x400079D9#32
  | 53 => 0xBEE40F2C#32
  | 54 => 0x3F870399#32
  | 55 => 0xBF9FAFE7#32
  | 56 => 0xBF2F0547#32
  | 57 => 0x3EC3C408#32
  | 58 => 0x4054E16F#32
  | 59 => 0x40123B79#32
  | 60 => 0xBF4B82BB#32
  | 61 => 0x3FC3E164#32
  | 62 => 0x3FA445DC#32
  | 63 => 0xBF313A2C#32
  | 64 => 0xBF83D2DF#32
  | 65 => 0xBF272730#32
  | 66 => 0x3F645E4E#32
  | 67 => 0x40565326#32
  | 68 => 0x3F8C9093#32
  | 69 => 0x4050CB0A#32
  | 70 => 0x3D90B694#32
  | 71 => 0x401C7B4C#32
  | 72 => 0x3F83DEC7#32
  | 73 => 0x3EE9A3F0#32
  | 74 => 0xBD5D3624#32
  | 75 => 0x3D10FB1D#32
  | 76 => 0x3F9C31EF#32
  | 77 => 0x3E71F0C2#32
  | 78 => 0x40643D96#32
  | 79 => 0x3F5C9216#32
  | 80 => 0x3ED03013#32
  | 81 => 0x3F9A81CA#32
  | 82 => 0xBF0E733A#32
  | 83 => 0xBF58D53E#32
  | 84 => 0x40269BEF#32
  | 85 => 0xBF0FD2E0#32
  | 86 => 0x3FC764ED#32
  | 87 => 0x3F96DDB9#32
  | 88 => 0xBD36960B#32
  | 89 => 0x3F1F4A65#32
  | 90 => 0x3EDE1D29#32
  | 91 => 0xBF701ABB#32
  | 92 => 0x3FDF6A46#32
  | 93 => 0xBE40DDE9#32
  | 94 => 0x40080232#32
  | 95 => 0x401C4C14#32
  | 96 => 0x404754E8#32
  | 97 => 0xBEB76568#32
  | 98 => 0x3ED61918#32
  | 99 => 0x3F39AF98#32
  | 100 => 0xBCBCCC40#32
  | 101 => 0xBF410ED9#32
  | 102 => 0x40113B54#32
  | 103 => 0xBF317D32#32
  | 104 => 0xBE0D0E44#32
  | 105 => 0xBF75DE5B#32
  | 106 => 0xBF98C6A1#32
  | 107 => 0x40C391C3#32
  | 108 => 0x3FB0DC65#32
  | 109 => 0x40552344#32
  | 110 => 0x3D0A5F07#32
  | 111 => 0x3FC11CB6#32
  | 112 => 0xBF4426E3#32
  | 113 => 0xBF2DD53D#32
  | 114 => 0x3F8075FA#32
  | 115 => 0x3F593914#32
  | 116 => 0x3F92ED71#32
  | 117 => 0x3F1975F9#32
  | 118 => 0x3F9BD992#32
  | 119 => 0x402CC82D#32
  | 120 => 0x3F65BE6D#32
  | 121 => 0x4014F1E0#32
  | 122 => 0xBF177536#32
  | 123 => 0xBD9C45AD#32
  | 124 => 0x3E98B3E5#32
  | 125 => 0x3FBBA5DF#32
  | 126 => 0x400631AF#32
  | 127 => 0x3E760EFF#32
  | _ => 0#32

noncomputable abbrev lit0t0_420 (i : Nat) : BitVec 32 := match i % 128 with
  | 0 => 0x3E98555B#32
  | 1 => 0x3E791E2C#32
  | 2 => 0xBF01EBF8#32
  | 3 => 0x3FDC64EC#32
  | 4 => 0x3ED5D564#32
  | 5 => 0xBEB222CB#32
  | 6 => 0x3FAC9846#32
  | 7 => 0xBF1C4120#32
  | 8 => 0x3EA3F23F#32
  | 9 => 0xBF623524#32
  | 10 => 0xBF196F92#32
  | 11 => 0xB9C066F6#32
  | 12 => 0x3EE0CF70#32
  | 13 => 0x3D767EDA#32
  | 14 => 0x3E3962F8#32
  | 15 => 0x3FA0EDEE#32
  | 16 => 0xBF8EF942#32
  | 17 => 0xBED4C319#32
  | 18 => 0x3FEBCBDC#32
  | 19 => 0xBFA18388#32
  | 20 => 0x3FFAB76B#32
  | 21 => 0xBF16A6B1#32
  | 22 => 0x3ED1C90E#32
  | 23 => 0x40965B02#32
  | 24 => 0x4049DA5A#32
  | 25 => 0x403D4BB0#32
  | 26 => 0x3E8372ED#32
  | 27 => 0x3E90C0FB#32
  | 28 => 0xBFDE226E#32
  | 29 => 0xBEE42202#32
  | 30 => 0x3F704157#32
  | 31 => 0x3FE8204D#32
  | 32 => 0x3DF8A786#32
  | 33 => 0x3F9F73E8#32
  | 34 => 0x3DEC99BF#32
  | 35 => 0xBF1C5A61#32
  | 36 => 0x3FCAADF7#32
  | 37 => 0x3FA32EA6#32
  | 38 => 0x3FAA52C7#32
  | 39 => 0xBF7A3432#32
  | 40 => 0xBF60F453#32
  | 41 => 0xBEA94C19#32
  | 42 => 0xBECDA9EB#32
  | 43 => 0x4020FB49#32
  | 44 => 0xBF6E134F#32
  | 45 => 0x3F2A0041#32
  | 46 => 0xBF40BDAA#32
  | 47 => 0x3F69C90E#32
  | 48 => 0x3F20F210#32
  | 49 => 0xBF5A6A36#32
  | 50 => 0xBF13FA32#32
  | 51 => 0xBF097DF7#32
  | 52 => 0x40187B44#32
  | 53 => 0x408BF5E2#32
  | 54 => 0x3EED4D69#32
  | 55 => 0x402B9743#32
  | 56 => 0x3FADB3D7#32
  | 57 => 0xBFC50AA3#32
  | 58 => 0x3FC1F36D#32
  | 59 => 0xBE17FB4C#32
  | 60 => 0x3F0F01BF#32
  | 61 => 0x3F3E3465#32
  | 62 => 0x3E5B54E0#32
  | 63 => 0xBFABC4D9#32
  | 64 => 0x3E9BC068#32
  | 65 => 0x3FEF49C0#32
  | 66 => 0xBF39DD23#32
  | 67 => 0xBEC24C6E#32
  | 68 => 0xBEAA7153#32
  | 69 => 0x3E8DDF85#32
  | 70 => 0xBF874BDA#32
  | 71 => 0xBE1AC2D5#32
  | 72 => 0xBF23079E#32
  | 73 => 0x3FB4B857#32
  | 74 => 0x3F98210D#32
  | 75 => 0xBF7BF28A#32
  | 76 => 0x4038EBE9#32
  | 77 => 0x40244F83#32
  | 78 => 0x3D7ED3D9#32
  | 79 => 0x3FD04B01#32
  | 80 => 0x3F30F7FD#32
  | 81 => 0x3FB99B72#32
  | 82 => 0xBF638264#32
  | 83 => 0xBFBBEE09#32
  | 84 => 0xBF0E8F30#32
  | 85 => 0x3F041A08#32
  | 86 => 0x406AAE61#32
  | 87 => 0x3FAC1AB5#32
  | 88 => 0xBF32D16E#32
  | 89 => 0xBEB483C8#32
  | 90 => 0x3E53E0A3#32
  | 91 => 0x3E9FDC11#32
  | 92 => 0xBE8716D0#32
  | 93 => 0xBF28B292#32
  | 94 => 0x3F4CB330#32
  | 95 => 0xBE94FA2F#32
  | 96 => 0x3E41BA47#32
  | 97 => 0x3F8BA88F#32
  | 98 => 0x3F58DA95#32
  | 99 => 0xBF46CFFD#32
  | 100 => 0x3F6D5DC5#32
  | 101 => 0x3FA45D20#32
  | 102 => 0x400A4E03#32
  | 103 => 0x3FAF181E#32
  | 104 => 0x3FACE233#32
  | 105 => 0x3F3564B3#32
  | 106 => 0xBDE3B300#32
  | 107 => 0x3F39DA4F#32
  | 108 => 0x40322057#32
  | 109 => 0x40836E10#32
  | 110 => 0x3F2CE817#32
  | 111 => 0xBF05053C#32
  | 112 => 0xBFC05536#32
  | 113 => 0xBF044D45#32
  | 114 => 0x3F01C04D#32
  | 115 => 0xBF23C627#32
  | 116 => 0x3ED27A6D#32
  | 117 => 0x3FBA4ED2#32
  | 118 => 0xBE86CF99#32
  | 119 => 0x3EC81138#32
  | 120 => 0x3E282714#32
  | 121 => 0xBF6C883E#32
  | 122 => 0x3FF45126#32
  | 123 => 0xBECB79B8#32
  | 124 => 0x3E8C1E3A#32
  | 125 => 0x4003B4BE#32
  | 126 => 0x3F85C7EF#32
  | 127 => 0xBF02A53F#32
  | _ => 0#32

noncomputable abbrev lit0t0_421 (i : Nat) : BitVec 32 := match i % 128 with
  | 0 => 0x3F110264#32
  | 1 => 0x3E6D4FB5#32
  | 2 => 0x3EA405C6#32
  | 3 => 0x3F39AB10#32
  | 4 => 0x3FA66969#32
  | 5 => 0x3E6BDA85#32
  | 6 => 0x3C812B96#32
  | 7 => 0x4042046C#32
  | 8 => 0x3EF2B5F9#32
  | 9 => 0x3F80E1CB#32
  | 10 => 0x3F57D16B#32
  | 11 => 0x3FA555DA#32
  | 12 => 0x3FFB18F0#32
  | 13 => 0xBF5831B6#32
  | 14 => 0x401D7D26#32
  | 15 => 0x3E3A899A#32
  | 16 => 0x3F415F72#32
  | 17 => 0x3F0E7036#32
  | 18 => 0x3DCCFB63#32
  | 19 => 0xBF8F510B#32
  | 20 => 0x3EFF572E#32
  | 21 => 0x3F22D695#32
  | 22 => 0x4023061C#32
  | 23 => 0x3F446B2D#32
  | 24 => 0xBF4FC250#32
  | 25 => 0x3D8E2BD7#32
  | 26 => 0x3F95DBD2#32
  | 27 => 0x3DEA32B8#32
  | 28 => 0xBEB58C53#32
  | 29 => 0xBD99F6BC#32
  | 30 => 0xBEC2D870#32
  | 31 => 0xBF9AB811#32
  | 32 => 0xBEB5B94A#32
  | 33 => 0x3F97B1B1#32
  | 34 => 0x3ECE3FD9#32
  | 35 => 0x3EEFEC85#32
  | 36 => 0x4024A045#32
  | 37 => 0xBD710528#32
  | 38 => 0x3DE182FB#32
  | 39 => 0x3FFF8B27#32
  | 40 => 0x3F8945C6#32
  | 41 => 0xBF71ED64#32
  | 42 => 0xBE7D7AB4#32
  | 43 => 0x40321C02#32
  | 44 => 0x3E62D60D#32
  | 45 => 0x4052B3F1#32
  | 46 => 0xBF6E7D8E#32
  | 47 => 0x3FC4576A#32
  | 48 => 0xBFEDA17A#32
  | 49 => 0x3F57D022#32
  | 50 => 0x3F38370C#32
  | 51 => 0xBE3D5E84#32
  | 52 => 0xBEAFF536#32
  | 53 => 0x3F36FAE5#32
  | 54 => 0xBF549F0B#32
  | 55 => 0x408ECEB3#32
  | 56 => 0x3ED2D4A2#32
  | 57 => 0x3FB78DFB#32
  | 58 => 0xBF2F39DA#32
  | 59 => 0x3F804270#32
  | 60 => 0x40033F7A#32
  | 61 => 0x3F7F7AC2#32
  | 62 => 0x3FBAACAE#32
  | 63 => 0x3E82F46A#32
  | 64 => 0x3FA0811E#32
  | 65 => 0xBF53879A#32
  | 66 => 0x3FC66CE8#32
  | 67 => 0xBF1AA90C#32
  | 68 => 0x3F1185E1#32
  | 69 => 0xBE1E365B#32
  | 70 => 0x3F3FC5E4#32
  | 71 => 0xBFAEAE57#32
  | 72 => 0x3F83BDC2#32
  | 73 => 0x3F812F17#32
  | 74 => 0x3FA3E8D9#32
  | 75 => 0x3F16DFA4#32
  | 76 => 0xBE6C5279#32
  | 77 => 0x3ECFF032#32
  | 78 => 0xBF05EA97#32
  | 79 => 0x3F842506#32
  | 80 => 0x3ED483C3#32
  | 81 => 0x409F7CFE#32
  | 82 => 0x3F51C02B#32
  | 83 => 0xBEF610D8#32
  | 84 => 0x3F657BB9#32
  | 85 => 0x3E273AE6#32
  | 86 => 0x409ED930#32
  | 87 => 0x3F81DA4A#32
  | 88 => 0xBF6D4EB2#32
  | 89 => 0x3ED62477#32
  | 90 => 0xBF329B6B#32
  | 91 => 0x3F468B46#32
  | 92 => 0x3F0480E4#32
  | 93 => 0xBED2EBB9#32
  | 94 => 0x406D089A#32
  | 95 => 0xBF652A3E#32
  | 96 => 0x3F973487#32
  | 97 => 0x3F133ECF#32
  | 98 => 0xBFEC2066#32
  | 99 => 0xBEB52D4E#32
  | 100 => 0x3F2BCD3F#32
  | 101 => 0xBE2DE71C#32
  | 102 => 0x3E54370C#32
  | 103 => 0x3FB746AD#32
  | 104 => 0x403BF644#32
  | 105 => 0xBF5736C0#32
  | 106 => 0xBF131E4A#32
  | 107 => 0x3FF54C51#32
  | 108 => 0xBF19701A#32
  | 109 => 0x3F09FA4E#32
  | 110 => 0xBE84A2D6#32
  | 111 => 0x3F89FFC6#32
  | 112 => 0x3F678B89#32
  | 113 => 0xBFD28694#32
  | 114 => 0xBF49B481#32
  | 115 => 0x3F346BDC#32
  | 116 => 0x3F07E1F0#32
  | 117 => 0x40294B70#32
  | 118 => 0x3DDE797D#32
  | 119 => 0x3F8D8BCB#32
  | 120 => 0x3F50CD91#32
  | 121 => 0x3F9EF18F#32
  | 122 => 0x3DF8B922#32
  | 123 => 0xBC433129#32
  | 124 => 0xBF14A642#32
  | 125 => 0xBF2F832E#32
  | 126 => 0x3ED5DC09#32
  | 127 => 0xBE8BD118#32
  | _ => 0#32

noncomputable abbrev lit0t0_422 (i : Nat) : BitVec 32 := match i % 128 with
  | 0 => 0xBF4DEAFC#32
  | 1 => 0x3F2CD1E7#32
  | 2 => 0xBF64E58A#32
  | 3 => 0x3EB036C1#32
  | 4 => 0xBF12B7C1#32
  | 5 => 0x3F9FE469#32
  | 6 => 0xBD8D763C#32
  | 7 => 0x3F868104#32
  | 8 => 0x4009C897#32
  | 9 => 0x406FE99B#32
  | 10 => 0x3EC67A9A#32
  | 11 => 0xBFCF1696#32
  | 12 => 0xBF82A5CC#32
  | 13 => 0x3FC1A42E#32
  | 14 => 0x3FE4E872#32
  | 15 => 0x3FC10F95#32
  | 16 => 0x3F9947AF#32
  | 17 => 0x3F1839B3#32
  | 18 => 0x3F2FCD37#32
  | 19 => 0x4014F1C9#32
  | 20 => 0x3EB332C0#32
  | 21 => 0x3FD158A0#32
  | 22 => 0x3FC9ADE0#32
  | 23 => 0x3E4D3218#32
  | 24 => 0x40000D1E#32
  | 25 => 0x3F5E8450#32
  | 26 => 0xBE9BF1B5#32
  | 27 => 0x4016EDCC#32
  | 28 => 0x40A06D48#32
  | 29 => 0x3F12BDD4#32
  | 30 => 0xBE82FEEE#32
  | 31 => 0x3F8338BF#32
  | 32 => 0x3F138706#32
  | 33 => 0x3E7045C7#32
  | 34 => 0x4010503B#32
  | 35 => 0xBBE8972D#32
  | 36 => 0xBD0EDF60#32
  | 37 => 0xBF218126#32
  | 38 => 0x3FCF2C3C#32
  | 39 => 0x3EE79FC1#32
  | 40 => 0xBE342282#32
  | 41 => 0x3F3D406C#32
  | 42 => 0xBF3C1B29#32
  | 43 => 0x401495A8#32
  | 44 => 0xBF416E84#32
  | 45 => 0xBFBC7673#32
  | 46 => 0xBE98EB0A#32
  | 47 => 0x4021F0DB#32
  | 48 => 0x3DA591C3#32
  | 49 => 0xBE3300D7#32
  | 50 => 0xBF07DFD8#32
  | 51 => 0x3F6DBD92#32
  | 52 => 0x4008DA1E#32
  | 53 => 0x40386E6B#32
  | 54 => 0x3E38307E#32
  | 55 => 0xBF18AE75#32
  | 56 => 0x3F3E05BD#32
  | 57 => 0x4022ECB0#32
  | 58 => 0x3F193365#32
  | 59 => 0x3E53A8BE#32
  | 60 => 0x3F8B98F0#32
  | 61 => 0xBF2F7264#32
  | 62 => 0x3FB38CD6#32
  | 63 => 0x3F9C9CC4#32
  | 64 => 0x3FC40893#32
  | 65 => 0x3EFBE6AE#32
  | 66 => 0xBE135975#32
  | 67 => 0xBCE9EC0F#32
  | 68 => 0xBF4DFE02#32
  | 69 => 0xBE46C00E#32
  | 70 => 0xBE8C6F73#32
  | 71 => 0x3F0C339A#32
  | 72 => 0x3EEEA5CC#32
  | 73 => 0x3F924988#32
  | 74 => 0x3FECCE40#32
  | 75 => 0xBB3249DC#32
  | 76 => 0xBE11CD76#32
  | 77 => 0xBFC72C3C#32
  | 78 => 0x3ED1D9F9#32
  | 79 => 0x3F8CE6B3#32
  | 80 => 0x3FBEF020#32
  | 81 => 0x3EF1BEE5#32
  | 82 => 0xBE0B17C4#32
  | 83 => 0xBE75A161#32
  | 84 => 0xBBD116DD#32
  | 85 => 0x3FCDF746#32
  | 86 => 0x3EA847C3#32
  | 87 => 0x3F643E6E#32
  | 88 => 0x3FED2C19#32
  | 89 => 0x3FC40F54#32
  | 90 => 0x3DB951A3#32
  | 91 => 0x3FA3C2D6#32
  | 92 => 0xBF0865E8#32
  | 93 => 0x3F8FDAF2#32
  | 94 => 0x4007746C#32
  | 95 => 0xBE9ACAEC#32
  | 96 => 0x4067FF21#32
  | 97 => 0x3FE68325#32
  | 98 => 0xBE4C44DB#32
  | 99 => 0x3F9E0F3C#32
  | 100 => 0xBEB37FBE#32
  | 101 => 0x403A16D9#32
  | 102 => 0x3F84C4F2#32
  | 103 => 0x3A4AD015#32
  | 104 => 0xBE6EED15#32
  | 105 => 0x3F6702BE#32
  | 106 => 0x3DA12D80#32
  | 107 => 0x3FFDFF9C#32
  | 108 => 0xBEAD7167#32
  | 109 => 0x3F6C5CC4#32
  | 110 => 0x401EBABA#32
  | 111 => 0xBF236DB0#32
  | 112 => 0x4045627C#32
  | 113 => 0x3F4DB833#32
  | 114 => 0xBEB0480F#32
  | 115 => 0xBF82E572#32
  | 116 => 0xBCF27B29#32
  | 117 => 0x3FFE46A7#32
  | 118 => 0x3FA655EF#32
  | 119 => 0x3E90F7C8#32
  | 120 => 0x3F5CBFAA#32
  | 121 => 0x3F34A4F4#32
  | 122 => 0x40000ECE#32
  | 123 => 0x3FF825ED#32
  | 124 => 0x3F815EE5#32
  | 125 => 0x3FF6980B#32
  | 126 => 0x405FE741#32
  | 127 => 0x3F2D9FAB#32
  | _ => 0#32

noncomputable abbrev lit0t0_423 (i : Nat) : BitVec 32 := match i % 128 with
  | 0 => 0x3FA2C12C#32
  | 1 => 0x3F488864#32
  | 2 => 0x3F75C128#32
  | 3 => 0x400121BD#32
  | 4 => 0x40291F99#32
  | 5 => 0x3F2B39D0#32
  | 6 => 0x3F4A37E2#32
  | 7 => 0x3FC9F064#32
  | 8 => 0xBE897ECA#32
  | 9 => 0x3F1E2C16#32
  | 10 => 0x3F8EE20E#32
  | 11 => 0x3EC40C9E#32
  | 12 => 0x3FEAFA64#32
  | 13 => 0xBBBBFDB0#32
  | 14 => 0x3E46E8B8#32
  | 15 => 0x3F62787A#32
  | 16 => 0x3E2F4079#32
  | 17 => 0x3DFE10A1#32
  | 18 => 0x3F0A6881#32
  | 19 => 0x3EF54AF5#32
  | 20 => 0xBE392F7B#32
  | 21 => 0x3F86EF12#32
  | 22 => 0xBF9B7A96#32
  | 23 => 0xBF6D1683#32
  | 24 => 0x3FA71D96#32
  | 25 => 0x3EEB6BBA#32
  | 26 => 0x405453E7#32
  | 27 => 0xBF9699EF#32
  | 28 => 0xBF1E7DA4#32
  | 29 => 0x3F88CC1E#32
  | 30 => 0x3EE6D57E#32
  | 31 => 0x3FF3E884#32
  | 32 => 0xBDAB4FD8#32
  | 33 => 0xBF8B71E6#32
  | 34 => 0xBE85ED7D#32
  | 35 => 0x3DC3DA43#32
  | 36 => 0xBF093B46#32
  | 37 => 0xBE185D88#32
  | 38 => 0x3FEA9350#32
  | 39 => 0x3E7A2982#32
  | 40 => 0x3F2E3024#32
  | 41 => 0xBF31714E#32
  | 42 => 0xBE8ED092#32
  | 43 => 0x3F25422F#32
  | 44 => 0x3F0E991A#32
  | 45 => 0x3FF90F75#32
  | 46 => 0xBF35E1DC#32
  | 47 => 0xBF89B757#32
  | 48 => 0x3F5660B8#32
  | 49 => 0x3F5D6A71#32
  | 50 => 0x3D0CD8C3#32
  | 51 => 0x405864C3#32
  | 52 => 0xBE3AFE99#32
  | 53 => 0x3F2B938B#32
  | 54 => 0x3EE76078#32
  | 55 => 0x402B77D6#32
  | 56 => 0x3FC0FB0A#32
  | 57 => 0x3FB58F23#32
  | 58 => 0x3E835576#32
  | 59 => 0x3F91962A#32
  | 60 => 0xBED43AF9#32
  | 61 => 0xBF283492#32
  | 62 => 0x40181754#32
  | 63 => 0xBF8FC072#32
  | 64 => 0xBE6B727F#32
  | 65 => 0xBE274B92#32
  | 66 => 0x3EDCC8B6#32
  | 67 => 0x3F587B68#32
  | 68 => 0x401CBB78#32
  | 69 => 0xBFE021D4#32
  | 70 => 0x3EEF96D2#32
  | 71 => 0xBDEBFB69#32
  | 72 => 0xBF9D896D#32
  | 73 => 0x408BA294#32
  | 74 => 0x3F4DD0DA#32
  | 75 => 0x3F8A3C7A#32
  | 76 => 0x4001BFFF#32
  | 77 => 0x3F6ADD8D#32
  | 78 => 0x3F24F94F#32
  | 79 => 0x3E696DEA#32
  | 80 => 0x3ED4B3CE#32
  | 81 => 0x3F913052#32
  | 82 => 0x402956D0#32
  | 83 => 0x3D6F1545#32
  | 84 => 0x3F072A2E#32
  | 85 => 0xBFA150A0#32
  | 86 => 0xBEB5281C#32
  | 87 => 0x3FCEF3EC#32
  | 88 => 0xBF6D6F7A#32
  | 89 => 0x3FF4297A#32
  | 90 => 0x3F259912#32
  | 91 => 0x3F6DD0EB#32
  | 92 => 0xBEC384B0#32
  | 93 => 0x3F06AB08#32
  | 94 => 0xBF0B9D3A#32
  | 95 => 0xBF891DCA#32
  | 96 => 0x403D0D9C#32
  | 97 => 0x3F9DCD48#32
  | 98 => 0x3F139518#32
  | 99 => 0x3FA276BC#32
  | 100 => 0xBF5F2E9C#32
  | 101 => 0xBD3F8F6F#32
  | 102 => 0xBF69F056#32
  | 103 => 0x3F076230#32
  | 104 => 0xBF6AA7A6#32
  | 105 => 0xBF9896F6#32
  | 106 => 0x3F4F8301#32
  | 107 => 0x4035DF04#32
  | 108 => 0x3F15F2BB#32
  | 109 => 0x3F4F338B#32
  | 110 => 0x3EB9A880#32
  | 111 => 0xBF936793#32
  | 112 => 0x3FC6DF2D#32
  | 113 => 0x3F6C9DC6#32
  | 114 => 0x3F83ACAE#32
  | 115 => 0x401C0672#32
  | 116 => 0x3ED3FD5C#32
  | 117 => 0xBEB27D61#32
  | 118 => 0x3F9CDE22#32
  | 119 => 0x3FB56497#32
  | 120 => 0x401C9B41#32
  | 121 => 0x40917CBD#32
  | 122 => 0x3EAA23B2#32
  | 123 => 0x3D39D24A#32
  | 124 => 0xBF7F7223#32
  | 125 => 0x3F8EE61C#32
  | 126 => 0xBF264D06#32
  | 127 => 0x3F9ABB28#32
  | _ => 0#32

noncomputable abbrev lit0t0_424 (i : Nat) : BitVec 32 := match i % 128 with
  | 0 => 0xBE11E302#32
  | 1 => 0xBF4B709D#32
  | 2 => 0x3E76B963#32
  | 3 => 0x3E7BCD83#32
  | 4 => 0x3EC45397#32
  | 5 => 0x3DB6C0D0#32
  | 6 => 0x3F9E1203#32
  | 7 => 0x3F0AD0B9#32
  | 8 => 0xBE855F94#32
  | 9 => 0xBF148F21#32
  | 10 => 0xBF74477C#32
  | 11 => 0x3E9E0BB5#32
  | 12 => 0x3F2BBE86#32
  | 13 => 0xBEA89087#32
  | 14 => 0x3F257522#32
  | 15 => 0x40BC00FB#32
  | 16 => 0x3F0EDB7F#32
  | 17 => 0x3E8C1433#32
  | 18 => 0xBF804A18#32
  | 19 => 0x3F1987A6#32
  | 20 => 0x3F853DF9#32
  | 21 => 0xBEAF1783#32
  | 22 => 0xBF85418D#32
  | 23 => 0x3EA2196B#32
  | 24 => 0xBE678931#32
  | 25 => 0x3F1B975A#32
  | 26 => 0x3FBDAEB0#32
  | 27 => 0x3E84312F#32
  | 28 => 0x400F7D83#32
  | 29 => 0x3F8CB58E#32
  | 30 => 0x4024AF3D#32
  | 31 => 0xBFFD30C4#32
  | 32 => 0xBF13C489#32
  | 33 => 0x3FC15DB5#32
  | 34 => 0x3FE190CB#32
  | 35 => 0x3FFAE095#32
  | 36 => 0xBEFA4A1E#32
  | 37 => 0x3EC0CC46#32
  | 38 => 0x4016D8CA#32
  | 39 => 0x3F5EE5AA#32
  | 40 => 0x3EED234A#32
  | 41 => 0x3EDADCD0#32
  | 42 => 0xBF608EDC#32
  | 43 => 0x3FFE6D59#32
  | 44 => 0x3F3E8B3E#32
  | 45 => 0x3F035724#32
  | 46 => 0xBDC45604#32
  | 47 => 0x3EA48E22#32
  | 48 => 0xBF02C443#32
  | 49 => 0x3D359EDF#32
  | 50 => 0xBF4F7F07#32
  | 51 => 0x3EE8E9F8#32
  | 52 => 0x3F87866D#32
  | 53 => 0x3F55FEF4#32
  | 54 => 0x3FB2665A#32
  | 55 => 0x3E6EA444#32
  | 56 => 0x3D8D89BF#32
  | 57 => 0xBF2D1403#32
  | 58 => 0x3F28570E#32
  | 59 => 0x4030424F#32
  | 60 => 0xBF8C0D3D#32
  | 61 => 0x3E20E335#32
  | 62 => 0xBD928E6A#32
  | 63 => 0xBF566105#32
  | 64 => 0xBE6A9EA7#32
  | 65 => 0xBFB8E842#32
  | 66 => 0x3F9DB880#32
  | 67 => 0x3FAADA2A#32
  | 68 => 0x3E65B859#32
  | 69 => 0x3FA1000F#32
  | 70 => 0xBE53B824#32
  | 71 => 0x3E697400#32
  | 72 => 0x3F852592#32
  | 73 => 0x3D838FF7#32
  | 74 => 0xBD639071#32
  | 75 => 0x3EE39E38#32
  | 76 => 0x3FB848A1#32
  | 77 => 0xBE6849C6#32
  | 78 => 0x3EB592E2#32
  | 79 => 0xBF48A347#32
  | 80 => 0xBF72386B#32
  | 81 => 0x3FEEA62A#32
  | 82 => 0xBDF70322#32
  | 83 => 0xBF4A5BD1#32
  | 84 => 0x3EAF102B#32
  | 85 => 0x3FD02A3A#32
  | 86 => 0x3F03680D#32
  | 87 => 0x3FB53380#32
  | 88 => 0xBE754BC2#32
  | 89 => 0xBF652BD5#32
  | 90 => 0x3FD0E22A#32
  | 91 => 0xBF4D01F7#32
  | 92 => 0xBF973785#32
  | 93 => 0x3FE1171B#32
  | 94 => 0xBED3ED74#32
  | 95 => 0x3F36F77C#32
  | 96 => 0x40A4951F#32
  | 97 => 0x3E1EAAAE#32
  | 98 => 0x3E804209#32
  | 99 => 0x40431CC5#32
  | 100 => 0x3F2A384A#32
  | 101 => 0x402313ED#32
  | 102 => 0x3F269A0E#32
  | 103 => 0xBF3BDCAC#32
  | 104 => 0xBE40FB57#32
  | 105 => 0x3F4B1A15#32
  | 106 => 0x3F15661C#32
  | 107 => 0x3ED55FB2#32
  | 108 => 0x3FA2567E#32
  | 109 => 0xBDC51F75#32
  | 110 => 0xBF34C7E8#32
  | 111 => 0x402B38C8#32
  | 112 => 0xBF88E094#32
  | 113 => 0xBF45CEAE#32
  | 114 => 0x3F99A416#32
  | 115 => 0x3EA19C2B#32
  | 116 => 0x3FB74B04#32
  | 117 => 0x3E5A8247#32
  | 118 => 0x3E12E481#32
  | 119 => 0x4031D322#32
  | 120 => 0x3F124B70#32
  | 121 => 0x3E9A7759#32
  | 122 => 0x3DA69E93#32
  | 123 => 0xBEFB6FAE#32
  | 124 => 0xBF02CE24#32
  | 125 => 0x3F5CF740#32
  | 126 => 0xBE169CFC#32
  | 127 => 0xBFC63905#32
  | _ => 0#32

noncomputable abbrev lit0t0_425 (i : Nat) : BitVec 32 := match i % 128 with
  | 0 => 0x3EC8FFFA#32
  | 1 => 0x3E59FCBC#32
  | 2 => 0x3D5E97B0#32
  | 3 => 0xBF8CB42A#32
  | 4 => 0xBE5B3AE3#32
  | 5 => 0x3FDB8F37#32
  | 6 => 0xBF8EF4F8#32
  | 7 => 0xBDBD2D8D#32
  | 8 => 0x3FD42214#32
  | 9 => 0x3E0F1442#32
  | 10 => 0x4050214F#32
  | 11 => 0x3FC37633#32
  | 12 => 0xBE8FE069#32
  | 13 => 0x3EEA28EA#32
  | 14 => 0xBF7FA5A2#32
  | 15 => 0x3FFEAD29#32
  | 16 => 0x3EFDD9BC#32
  | 17 => 0xBF90211E#32
  | 18 => 0x3F43D913#32
  | 19 => 0x3FD5C8C0#32
  | 20 => 0xBF49A939#32
  | 21 => 0xBF5FCBA1#32
  | 22 => 0xBEC678D2#32
  | 23 => 0x3FAB978B#32
  | 24 => 0x3FC6BD01#32
  | 25 => 0x3FA7147A#32
  | 26 => 0xBDFA43E4#32
  | 27 => 0xBF1B7206#32
  | 28 => 0x3FC77D45#32
  | 29 => 0x3F65789C#32
  | 30 => 0x3F0BE292#32
  | 31 => 0x405C96A9#32
  | 32 => 0xBF72A0FC#32
  | 33 => 0x3FB869A0#32
  | 34 => 0x3F67BA12#32
  | 35 => 0x400EA812#32
  | 36 => 0x3E5F6774#32
  | 37 => 0x4093F1A6#32
  | 38 => 0x3D80E31D#32
  | 39 => 0x3FF35192#32
  | 40 => 0xBF1F8F91#32
  | 41 => 0x3ED23BC7#32
  | 42 => 0xBFDF65A6#32
  | 43 => 0xBF0FE257#32
  | 44 => 0x3EE16A39#32
  | 45 => 0xBF03F143#32
  | 46 => 0x3FB69506#32
  | 47 => 0xBD136E29#32
  | 48 => 0xBF27D800#32
  | 49 => 0xBF39FEB5#32
  | 50 => 0x3F748FE2#32
  | 51 => 0xBED55AB7#32
  | 52 => 0x3D844857#32
  | 53 => 0xBE6D72ED#32
  | 54 => 0x3E9F9812#32
  | 55 => 0x3F4B916A#32
  | 56 => 0x3E70D643#32
  | 57 => 0xBE399075#32
  | 58 => 0xBF395518#32
  | 59 => 0xBEB4B442#32
  | 60 => 0x3F0C7FAA#32
  | 61 => 0x3FFE0F8F#32
  | 62 => 0x408B1A84#32
  | 63 => 0x40562194#32
  | 64 => 0x400229CD#32
  | 65 => 0xBEF8E82F#32
  | 66 => 0xBEA68B28#32
  | 67 => 0xBD381FE4#32
  | 68 => 0xBE9CB16A#32
  | 69 => 0xBEF5BE70#32
  | 70 => 0xBF59926F#32
  | 71 => 0x3E9091FC#32
  | 72 => 0x3E072B1A#32
  | 73 => 0x406B32B2#32
  | 74 => 0x3FB3A3F0#32
  | 75 => 0x3F0AE7CC#32
  | 76 => 0x3F4CE2C4#32
  | 77 => 0x3D59A899#32
  | 78 => 0x3F84D87E#32
  | 79 => 0x3F083C35#32
  | 80 => 0xBF670DD5#32
  | 81 => 0x3F097DF7#32
  | 82 => 0x3F5ABB12#32
  | 83 => 0x3F07FF86#32
  | 84 => 0xBF01078A#32
  | 85 => 0x3E1081E9#32
  | 86 => 0xBF960DCB#32
  | 87 => 0x3F8878F3#32
  | 88 => 0x3FAAA10B#32
  | 89 => 0x3F821B0C#32
  | 90 => 0xBF33B6DB#32
  | 91 => 0x3F38975F#32
  | 92 => 0x3F1C5342#32
  | 93 => 0x3EFA6C7C#32
  | 94 => 0x3E8BE272#32
  | 95 => 0x3FE9A4FA#32
  | 96 => 0x40B559A6#32
  | 97 => 0xBD7D6313#32
  | 98 => 0x3FCDFB54#32
  | 99 => 0xBF5A8C0C#32
  | 100 => 0x40929282#32
  | 101 => 0xBEE3C9BF#32
  | 102 => 0x3FB3AA48#32
  | 103 => 0xBF925C67#32
  | 104 => 0x3F04C478#32
  | 105 => 0x3F97E703#32
  | 106 => 0xBE9AB208#32
  | 107 => 0xBE61CF9E#32
  | 108 => 0x3FF5BF85#32
  | 109 => 0xBF12B6E5#32
  | 110 => 0xBED1D052#32
  | 111 => 0x3F7656BA#32
  | 112 => 0x3E70591F#32
  | 113 => 0x3F729F7C#32
  | 114 => 0xBFB291EF#32
  | 115 => 0x3F83F962#32
  | 116 => 0x3FE99C18#32
  | 117 => 0x400AB0B8#32
  | 118 => 0x3FB19A30#32
  | 119 => 0x400C6164#32
  | 120 => 0xBEA810D6#32
  | 121 => 0xBF057099#32
  | 122 => 0x3F4B331E#32
  | 123 => 0xBE523D71#32
  | 124 => 0xBF77CCAE#32
  | 125 => 0x406BDAE9#32
  | 126 => 0xBE71ED0F#32
  | 127 => 0xBE47BDB4#32
  | _ => 0#32

noncomputable abbrev lit0t0_426 (i : Nat) : BitVec 32 := match i % 128 with
  | 0 => 0x3FB87C67#32
  | 1 => 0x3E985C61#32
  | 2 => 0xBF42817A#32
  | 3 => 0xBFA95C14#32
  | 4 => 0x3F2112A1#32
  | 5 => 0x3F754686#32
  | 6 => 0x3E9DB7FB#32
  | 7 => 0x3F44D75F#32
  | 8 => 0xBD96D1BC#32
  | 9 => 0x3F1788D8#32
  | 10 => 0x3F8EA27C#32
  | 11 => 0xBE1E2D6A#32
  | 12 => 0xBEF38073#32
  | 13 => 0xBDCE5DDA#32
  | 14 => 0x3D59532E#32
  | 15 => 0xBF1D4D94#32
  | 16 => 0x3D83A020#32
  | 17 => 0x3F8B1E38#32
  | 18 => 0xBF12E8D2#32
  | 19 => 0x3DE0534D#32
  | 20 => 0x3F878372#32
  | 21 => 0x3F29BF7D#32
  | 22 => 0x4035FD65#32
  | 23 => 0xBFA9549D#32
  | 24 => 0x3EB1D51B#32
  | 25 => 0xBF790423#32
  | 26 => 0xBEA8A65E#32
  | 27 => 0x3ECE83F2#32
  | 28 => 0x3FF45D38#32
  | 29 => 0x3FCD5702#32
  | 30 => 0x3EAA213B#32
  | 31 => 0x40507D5F#32
  | 32 => 0xBE094565#32
  | 33 => 0xBD18F305#32
  | 34 => 0x3FF9D234#32
  | 35 => 0x40BA7622#32
  | 36 => 0xBF21275D#32
  | 37 => 0x3F01BA6D#32
  | 38 => 0x3FF5B2A8#32
  | 39 => 0xBEACC91B#32
  | 40 => 0x3F33A6B0#32
  | 41 => 0x3E7053CF#32
  | 42 => 0x3F56F242#32
  | 43 => 0xBF1D4579#32
  | 44 => 0x3EA32C43#32
  | 45 => 0x3F788E64#32
  | 46 => 0xBC854381#32
  | 47 => 0x3FD17848#32
  | 48 => 0x3F367318#32
  | 49 => 0xBF08F150#32
  | 50 => 0x3DC28135#32
  | 51 => 0xBF0906FD#32
  | 52 => 0xBD906014#32
  | 53 => 0xBF913431#32
  | 54 => 0x3FDAD10B#32
  | 55 => 0x3EDC4476#32
  | 56 => 0x406CABBA#32
  | 57 => 0xBEE9D772#32
  | 58 => 0x3FF060DD#32
  | 59 => 0xBF94830D#32
  | 60 => 0xBE19E7DC#32
  | 61 => 0x3FF562E5#32
  | 62 => 0x40153871#32
  | 63 => 0x3E9CD9F3#32
  | 64 => 0xBF3E3897#32
  | 65 => 0xBECEE42A#32
  | 66 => 0xBBC04B46#32
  | 67 => 0x3F34723C#32
  | 68 => 0x4064BBF6#32
  | 69 => 0x3F4A265A#32
  | 70 => 0xBF12D035#32
  | 71 => 0xBF1545A6#32
  | 72 => 0x40447A40#32
  | 73 => 0x3FAD4729#32
  | 74 => 0x405294B8#32
  | 75 => 0x40181DA7#32
  | 76 => 0x4002B398#32
  | 77 => 0x3E6B847D#32
  | 78 => 0xBD929ADE#32
  | 79 => 0x3FA9C01B#32
  | 80 => 0x3EEF68E5#32
  | 81 => 0x402E136B#32
  | 82 => 0xBF05241A#32
  | 83 => 0x3FD32BCD#32
  | 84 => 0xBEA67D46#32
  | 85 => 0x3F7CFCA5#32
  | 86 => 0xBE1E7FED#32
  | 87 => 0x3FB10EE2#32
  | 88 => 0x3F93004C#32
  | 89 => 0xBFB93B28#32
  | 90 => 0xBE6ED59F#32
  | 91 => 0x3F8DC864#32
  | 92 => 0xBF56F005#32
  | 93 => 0xBEDA1697#32
  | 94 => 0x3FC0EDB3#32
  | 95 => 0x3F9C8DFA#32
  | 96 => 0xBD7FAB3F#32
  | 97 => 0x4050C324#32
  | 98 => 0x3EA547DB#32
  | 99 => 0x408B1ABF#32
  | 100 => 0xBE746A7C#32
  | 101 => 0x3F27E898#32
  | 102 => 0x3F3BE465#32
  | 103 => 0x402ECAC6#32
  | 104 => 0x3E042347#32
  | 105 => 0x408F3376#32
  | 106 => 0x3F0C8C5E#32
  | 107 => 0xBFF02AD6#32
  | 108 => 0xBF373594#32
  | 109 => 0xBECF0F18#32
  | 110 => 0x3F571F6E#32
  | 111 => 0x3FFF1CB8#32
  | 112 => 0x4077A39D#32
  | 113 => 0x3FBF53EE#32
  | 114 => 0xBE350B16#32
  | 115 => 0xBF4AF9B8#32
  | 116 => 0xBF18209E#32
  | 117 => 0xBF64A9EC#32
  | 118 => 0xBF1C30FF#32
  | 119 => 0x40249518#32
  | 120 => 0x40064CAB#32
  | 121 => 0xBC84CBF6#32
  | 122 => 0x3F8645DB#32
  | 123 => 0x3ED27CE6#32
  | 124 => 0xBF217541#32
  | 125 => 0x3EE5859B#32
  | 126 => 0xBF1C8C37#32
  | 127 => 0x3F8386DA#32
  | _ => 0#32

noncomputable abbrev lit0t0_427 (i : Nat) : BitVec 32 := match i % 128 with
  | 0 => 0x3F83213F#32
  | 1 => 0xBE4E78AD#32
  | 2 => 0x3F1FBD3C#32
  | 3 => 0xBD26E200#32
  | 4 => 0xBDF7FAE0#32
  | 5 => 0x3FEBCED5#32
  | 6 => 0xBF9D1F19#32
  | 7 => 0x400B3165#32
  | 8 => 0x3F5BFF28#32
  | 9 => 0x4007820D#32
  | 10 => 0x3EAA0AD5#32
  | 11 => 0x3DDB58B4#32
  | 12 => 0xBEC741B3#32
  | 13 => 0x3F214B7C#32
  | 14 => 0x3CF32B5A#32
  | 15 => 0x4026A7A4#32
  | 16 => 0xBF586621#32
  | 17 => 0x402BE3E7#32
  | 18 => 0x3EB46367#32
  | 19 => 0x4020A390#32
  | 20 => 0xBE12C4D1#32
  | 21 => 0xBEE45CB8#32
  | 22 => 0x3F719C62#32
  | 23 => 0xBFDF9747#32
  | 24 => 0x40479251#32
  | 25 => 0x3FA3BB4F#32
  | 26 => 0xBE2C32FF#32
  | 27 => 0x4016A44B#32
  | 28 => 0xBEFECFB2#32
  | 29 => 0xBF868DA9#32
  | 30 => 0x3F7B4B1A#32
  | 31 => 0x3EC52C1C#32
  | 32 => 0xBF957BF4#32
  | 33 => 0xBED1A8E2#32
  | 34 => 0xBE6E5843#32
  | 35 => 0xBEB1E675#32
  | 36 => 0xBE9B9E39#32
  | 37 => 0xBE0B11A8#32
  | 38 => 0xBF8EDA20#32
  | 39 => 0xBE813854#32
  | 40 => 0x3F2B86CF#32
  | 41 => 0xBF9629D8#32
  | 42 => 0x3EA371CD#32
  | 43 => 0xBE8E44A5#32
  | 44 => 0x3DED6EF4#32
  | 45 => 0xBF13E0AA#32
  | 46 => 0x3FCEE5A6#32
  | 47 => 0xBF4B0ED4#32
  | 48 => 0xBF63C46E#32
  | 49 => 0x3FC29FFE#32
  | 50 => 0x3F602606#32
  | 51 => 0x3E954C91#32
  | 52 => 0x3E3AF3D2#32
  | 53 => 0xBF970534#32
  | 54 => 0xBEF5CED8#32
  | 55 => 0x3F8765D3#32
  | 56 => 0x3FAB5F54#32
  | 57 => 0x3E53E3C0#32
  | 58 => 0x3FC1E569#32
  | 59 => 0x3F1095F0#32
  | 60 => 0x3F1434D9#32
  | 61 => 0x3F2ED0B9#32
  | 62 => 0x400836CC#32
  | 63 => 0xBE1782D2#32
  | 64 => 0xBF17449B#32
  | 65 => 0x3FA41A8C#32
  | 66 => 0x3FB96180#32
  | 67 => 0x405F2F47#32
  | 68 => 0xBF58482F#32
  | 69 => 0xBFC481A1#32
  | 70 => 0x3EDD3B36#32
  | 71 => 0x3F9BA3D5#32
  | 72 => 0xBF6DABCF#32
  | 73 => 0x3E132A81#32
  | 74 => 0xBEE7EDB0#32
  | 75 => 0xBF7B21A4#32
  | 76 => 0xBD941C87#32
  | 77 => 0x3EB63790#32
  | 78 => 0xBFBD6546#32
  | 79 => 0xBEE32D42#32
  | 80 => 0x3EF0AA77#32
  | 81 => 0x3EE23033#32
  | 82 => 0x3F750BB0#32
  | 83 => 0xBF402131#32
  | 84 => 0xBF0A5199#32
  | 85 => 0xBF254938#32
  | 86 => 0x3FA65F3B#32
  | 87 => 0x3E23FCDC#32
  | 88 => 0x3F9792C5#32
  | 89 => 0x3E84CDDA#32
  | 90 => 0x3FB364A3#32
  | 91 => 0x3F3092EF#32
  | 92 => 0xBF103B48#32
  | 93 => 0xBEE793F6#32
  | 94 => 0xBE9FFCD9#32
  | 95 => 0xBF9E6680#32
  | 96 => 0x3F860D07#32
  | 97 => 0x3EEAC702#32
  | 98 => 0x3FAC7A59#32
  | 99 => 0x407102E3#32
  | 100 => 0x406EB356#32
  | 101 => 0xBF8E8928#32
  | 102 => 0x3F4428F0#32
  | 103 => 0x3ED918D4#32
  | 104 => 0x3F8EC15A#32
  | 105 => 0x400BD0BB#32
  | 106 => 0x3F9FBC6E#32
  | 107 => 0x3D29F275#32
  | 108 => 0x3E6E6BEA#32
  | 109 => 0x3EF81DF2#32
  | 110 => 0xBF40494A#32
  | 111 => 0x407AC8E3#32
  | 112 => 0xBE9B655E#32
  | 113 => 0xBE23BCDF#32
  | 114 => 0xBEE4FCFE#32
  | 115 => 0x3FDD5D07#32
  | 116 => 0xBF107205#32
  | 117 => 0xBF4FCF78#32
  | 118 => 0x3FA74BE6#32
  | 119 => 0xBADF175E#32
  | 120 => 0x4002C8F2#32
  | 121 => 0x3E549356#32
  | 122 => 0x3F9A7BEC#32
  | 123 => 0xBF4134ED#32
  | 124 => 0xBF4A170A#32
  | 125 => 0xBEB7BDE1#32
  | 126 => 0xBF4E8714#32
  | 127 => 0x3FBB6C04#32
  | _ => 0#32

noncomputable abbrev lit0t0_428 (i : Nat) : BitVec 32 := match i % 128 with
  | 0 => 0x3F40C910#32
  | 1 => 0x406E6F4A#32
  | 2 => 0x3F898436#32
  | 3 => 0x40418481#32
  | 4 => 0x3F349010#32
  | 5 => 0x40159ED4#32
  | 6 => 0x4036D9FC#32
  | 7 => 0x3EA8DB8A#32
  | 8 => 0x3F1F97B1#32
  | 9 => 0xBE9B128C#32
  | 10 => 0x3EF86C33#32
  | 11 => 0x3DAC0F39#32
  | 12 => 0x3FF0A61A#32
  | 13 => 0xBF5FC681#32
  | 14 => 0x407C5FF7#32
  | 15 => 0x3F066224#32
  | 16 => 0xBF1130B2#32
  | 17 => 0xBE51A0B3#32
  | 18 => 0x3F20F169#32
  | 19 => 0xBE0C0AC1#32
  | 20 => 0x3FE0C738#32
  | 21 => 0x3F2603E0#32
  | 22 => 0x3EAFF190#32
  | 23 => 0x40271FD1#32
  | 24 => 0x40327EAC#32
  | 25 => 0x4041B10E#32
  | 26 => 0xBE5BEC2D#32
  | 27 => 0x3FC2B837#32
  | 28 => 0xBF8503D8#32
  | 29 => 0xBEE15DCE#32
  | 30 => 0x3F04406E#32
  | 31 => 0xBE47BEFC#32
  | 32 => 0x40572617#32
  | 33 => 0x3E91E60B#32
  | 34 => 0xBDC3A63B#32
  | 35 => 0x3D4293E0#32
  | 36 => 0x3D393212#32
  | 37 => 0x3FCC8EB0#32
  | 38 => 0xBF5A0605#32
  | 39 => 0x3F7895C6#32
  | 40 => 0xBDA89346#32
  | 41 => 0x3F7AA430#32
  | 42 => 0x3E8830EB#32
  | 43 => 0x3EA06C9B#32
  | 44 => 0x3F174AF4#32
  | 45 => 0x3FBEEF8F#32
  | 46 => 0x4032F177#32
  | 47 => 0xBD243E5F#32
  | 48 => 0xBF1E9B43#32
  | 49 => 0xBF958466#32
  | 50 => 0xBF093D78#32
  | 51 => 0x405C776A#32
  | 52 => 0x3F7A928A#32
  | 53 => 0x40606250#32
  | 54 => 0x3EFAB358#32
  | 55 => 0x3CA69DD7#32
  | 56 => 0xBF75A4F0#32
  | 57 => 0x3F8944B6#32
  | 58 => 0x3EE6A0A0#32
  | 59 => 0xBF1F2FCF#32
  | 60 => 0xBF009214#32
  | 61 => 0x3F57B8B1#32
  | 62 => 0xBF90BDA2#32
  | 63 => 0xBE236366#32
  | 64 => 0xBD85242E#32
  | 65 => 0x3EC27C50#32
  | 66 => 0x3F684C82#32
  | 67 => 0xBEA1AE43#32
  | 68 => 0x3F331A8E#32
  | 69 => 0xBF330A97#32
  | 70 => 0xBF7D5F39#32
  | 71 => 0xBE92CCE2#32
  | 72 => 0x4067FE13#32
  | 73 => 0x3E2B6FDB#32
  | 74 => 0x3F3911A8#32
  | 75 => 0xBEB209C7#32
  | 76 => 0x3F882F39#32
  | 77 => 0x3E625E4B#32
  | 78 => 0x3E62AF5E#32
  | 79 => 0x3E55DA51#32
  | 80 => 0x40020739#32
  | 81 => 0x4012FCF8#32
  | 82 => 0xBFB1298A#32
  | 83 => 0x3E8143B9#32
  | 84 => 0x402BFEFA#32
  | 85 => 0xBEFB3200#32
  | 86 => 0x3F006296#32
  | 87 => 0xBF8916B4#32
  | 88 => 0xBF726BAB#32
  | 89 => 0x3EE6D343#32
  | 90 => 0xBECA205A#32
  | 91 => 0x3E8C1DE0#32
  | 92 => 0xBD631280#32
  | 93 => 0xBF625268#32
  | 94 => 0x3F1F2A49#32
  | 95 => 0xBDBF270D#32
  | 96 => 0x3F39D788#32
  | 97 => 0x3F182C33#32
  | 98 => 0x3D15BF19#32
  | 99 => 0x401AD91C#32
  | 100 => 0x3C90483F#32
  | 101 => 0x3F3BBF07#32
  | 102 => 0x3E4391DA#32
  | 103 => 0x3E9ACCBB#32
  | 104 => 0x3EF864EA#32
  | 105 => 0xBF80C86A#32
  | 106 => 0x3F72A228#32
  | 107 => 0x3FDDC03B#32
  | 108 => 0xBF38DE07#32
  | 109 => 0x3ECC53ED#32
  | 110 => 0x3F0D6B01#32
  | 111 => 0x3F979CA7#32
  | 112 => 0x3F15EF39#32
  | 113 => 0x3FA0E6CC#32
  | 114 => 0x3E2EFA07#32
  | 115 => 0x3FD0C7F7#32
  | 116 => 0x3F6912E0#32
  | 117 => 0x405CD7BC#32
  | 118 => 0xBEDD3F09#32
  | 119 => 0xBEE9385A#32
  | 120 => 0xBE099290#32
  | 121 => 0x3EC5C325#32
  | 122 => 0xBF2B1256#32
  | 123 => 0xBE123B88#32
  | 124 => 0x3F55A3DB#32
  | 125 => 0x3F16844D#32
  | 126 => 0x40193A24#32
  | 127 => 0x3F13464B#32
  | _ => 0#32

noncomputable abbrev lit0t0_429 (i : Nat) : BitVec 32 := match i % 128 with
  | 0 => 0x3FC8F37B#32
  | 1 => 0x3EAD5C6C#32
  | 2 => 0x3F2EC879#32
  | 3 => 0x3F17013D#32
  | 4 => 0x3FDAE36A#32
  | 5 => 0x400607EB#32
  | 6 => 0x3FB1742B#32
  | 7 => 0xBECC4517#32
  | 8 => 0x40A125F1#32
  | 9 => 0x3E363CBE#32
  | 10 => 0x3F84EBC8#32
  | 11 => 0xBE84E50F#32
  | 12 => 0x4019523D#32
  | 13 => 0xBF0AC0CE#32
  | 14 => 0x3D4EEF92#32
  | 15 => 0x409AD0F1#32
  | 16 => 0xBE36A25A#32
  | 17 => 0x4063D73E#32
  | 18 => 0x3FFA302E#32
  | 19 => 0xBD4E097F#32
  | 20 => 0xBE1D6BFC#32
  | 21 => 0x3FB90EDA#32
  | 22 => 0xBE752F60#32
  | 23 => 0x4080A498#32
  | 24 => 0x3F7829AC#32
  | 25 => 0x3F57D7AC#32
  | 26 => 0x3F43938C#32
  | 27 => 0xBF79AE3C#32
  | 28 => 0x3F6C35CC#32
  | 29 => 0x3F8A5BDB#32
  | 30 => 0x3E89E025#32
  | 31 => 0xBE8B2AD9#32
  | 32 => 0x40053C60#32
  | 33 => 0xBE0463F3#32
  | 34 => 0x403A84F9#32
  | 35 => 0x3F1683FC#32
  | 36 => 0x3F5F76EC#32
  | 37 => 0x3E9DEA2E#32
  | 38 => 0x3CDD0578#32
  | 39 => 0x3FF96796#32
  | 40 => 0x3F4BF972#32
  | 41 => 0xBEEC4A6B#32
  | 42 => 0x400BD7EB#32
  | 43 => 0xBF3C3AAA#32
  | 44 => 0x3F809992#32
  | 45 => 0x3F94F6EE#32
  | 46 => 0xBEAD0C07#32
  | 47 => 0xBF0A9E3F#32
  | 48 => 0x40AFC321#32
  | 49 => 0x3E934E61#32
  | 50 => 0x3E387278#32
  | 51 => 0x3EA8CD5D#32
  | 52 => 0xBF22901D#32
  | 53 => 0x3EDD3955#32
  | 54 => 0x4038D30C#32
  | 55 => 0x40376DF3#32
  | 56 => 0x3F95BB41#32
  | 57 => 0xBF2AB298#32
  | 58 => 0xBEB84A64#32
  | 59 => 0xBED4DECA#32
  | 60 => 0x400D3DC3#32
  | 61 => 0xBFAA95FF#32
  | 62 => 0x3E96C662#32
  | 63 => 0xBE282574#32
  | 64 => 0xBEA00EA5#32
  | 65 => 0xBF59088F#32
  | 66 => 0xBF30B0AA#32
  | 67 => 0x3F820DCE#32
  | 68 => 0xBFDD90BA#32
  | 69 => 0x3E3E1DB3#32
  | 70 => 0x3FF43F01#32
  | 71 => 0x40263789#32
  | 72 => 0x3F61F5E7#32
  | 73 => 0xBF7C0CF5#32
  | 74 => 0x4005C9E8#32
  | 75 => 0x3FBBEBE8#32
  | 76 => 0x3F3BC256#32
  | 77 => 0xBFAEF99E#32
  | 78 => 0xBE8956AB#32
  | 79 => 0x3DD7FD4C#32
  | 80 => 0x3FF2451D#32
  | 81 => 0x400B533E#32
  | 82 => 0x404B2FF0#32
  | 83 => 0xBF1B5FE2#32
  | 84 => 0x3F3EEB40#32
  | 85 => 0x3FBC130A#32
  | 86 => 0xBEFA8AAC#32
  | 87 => 0xBEC9F4CD#32
  | 88 => 0x402BDA07#32
  | 89 => 0x4011821F#32
  | 90 => 0x3F5E0D7D#32
  | 91 => 0x3E6A6756#32
  | 92 => 0x3FC7B763#32
  | 93 => 0x3EF905EF#32
  | 94 => 0x3F0ECC92#32
  | 95 => 0xBF27CEBA#32
  | 96 => 0x3FE0F596#32
  | 97 => 0x3DEB5A53#32
  | 98 => 0xBE07E3FA#32
  | 99 => 0x3FA13D94#32
  | 100 => 0x3E4FD0E7#32
  | 101 => 0x3CE161B9#32
  | 102 => 0x3FF57B6E#32
  | 103 => 0x3FACE67A#32
  | 104 => 0xBF764352#32
  | 105 => 0x3EC066E6#32
  | 106 => 0x3EF7A8AE#32
  | 107 => 0x3F48B264#32
  | 108 => 0xBF84C847#32
  | 109 => 0xBE2E3B66#32
  | 110 => 0x3EA31E1F#32
  | 111 => 0xBF649B6C#32
  | 112 => 0x3E3BFFF2#32
  | 113 => 0x3FF96817#32
  | 114 => 0xBE3FD328#32
  | 115 => 0x3FA75D84#32
  | 116 => 0x3F7DBDE5#32
  | 117 => 0xBF727BEA#32
  | 118 => 0x3FAB342D#32
  | 119 => 0xBFCB3E18#32
  | 120 => 0x3EA3E72C#32
  | 121 => 0xBF2FD34C#32
  | 122 => 0xBF378E93#32
  | 123 => 0x3F84A033#32
  | 124 => 0xBF3CB9DD#32
  | 125 => 0x40275A9E#32
  | 126 => 0xBF2E055C#32
  | 127 => 0x3FF10FC2#32
  | _ => 0#32

noncomputable abbrev lit0t0_430 (i : Nat) : BitVec 32 := match i % 128 with
  | 0 => 0xBF8421EE#32
  | 1 => 0x3FCC802D#32
  | 2 => 0x3F56D36B#32
  | 3 => 0x3FA4C19C#32
  | 4 => 0xBDB6AAA6#32
  | 5 => 0x3FDB70EB#32
  | 6 => 0x3FC9294F#32
  | 7 => 0x404059DF#32
  | 8 => 0xBFD2FCF1#32
  | 9 => 0xBDCBC7C5#32
  | 10 => 0xBF0CCB07#32
  | 11 => 0x3FCCC519#32
  | 12 => 0x3FB6C1CB#32
  | 13 => 0xBEE19B32#32
  | 14 => 0x3E96937E#32
  | 15 => 0xBF3B734F#32
  | 16 => 0x3E71D146#32
  | 17 => 0xBD97D19D#32
  | 18 => 0xBE94A260#32
  | 19 => 0x3E4F255C#32
  | 20 => 0xBEB495E9#32
  | 21 => 0xBF781F9B#32
  | 22 => 0xBF2ABC05#32
  | 23 => 0xBF403B93#32
  | 24 => 0x3F78D288#32
  | 25 => 0x3FFDFBE5#32
  | 26 => 0xBE8F6638#32
  | 27 => 0x3F76E7C4#32
  | 28 => 0x3F6FFFA7#32
  | 29 => 0xBE406BFE#32
  | 30 => 0x3F4220CC#32
  | 31 => 0xBEACAE71#32
  | 32 => 0x3E9CE1C0#32
  | 33 => 0xBF099DCA#32
  | 34 => 0x3E2F829F#32
  | 35 => 0x3F022797#32
  | 36 => 0x3DBF1C65#32
  | 37 => 0x3F4F8A7C#32
  | 38 => 0xBFB0CD15#32
  | 39 => 0xBD9AA7EF#32
  | 40 => 0xBEF57B24#32
  | 41 => 0xBBA7C3DE#32
  | 42 => 0xBEB83336#32
  | 43 => 0xBFAFEB0D#32
  | 44 => 0x3E8E1681#32
  | 45 => 0x3CA9D44F#32
  | 46 => 0x3FA71912#32
  | 47 => 0x3F2419B9#32
  | 48 => 0x3FCDDF49#32
  | 49 => 0x3F2EFA9B#32
  | 50 => 0x3E4ECF48#32
  | 51 => 0xBEF3E392#32
  | 52 => 0x3ED8AE5C#32
  | 53 => 0xBE850CAC#32
  | 54 => 0x3DFDA72E#32
  | 55 => 0x3DCC46C6#32
  | 56 => 0x3F686AF3#32
  | 57 => 0x3F6C432A#32
  | 58 => 0x3FB31E7F#32
  | 59 => 0x3E42BF73#32
  | 60 => 0x407991AC#32
  | 61 => 0xBE9F73F6#32
  | 62 => 0xBDEFD456#32
  | 63 => 0xBECCE9AE#32
  | 64 => 0x3EB0D1B9#32
  | 65 => 0x402AFAE5#32
  | 66 => 0xBF2F9096#32
  | 67 => 0x4098A24E#32
  | 68 => 0xBF9F4D13#32
  | 69 => 0x3E86F244#32
  | 70 => 0x3F8CD898#32
  | 71 => 0x3F3F7CC4#32
  | 72 => 0xBF8D61F8#32
  | 73 => 0x3E968FDE#32
  | 74 => 0x401EEEB3#32
  | 75 => 0x3FAB35DD#32
  | 76 => 0x3F58D764#32
  | 77 => 0x3F77A048#32
  | 78 => 0x4005D61F#32
  | 79 => 0x3F5FD490#32
  | 80 => 0xBF8359CA#32
  | 81 => 0x40135492#32
  | 82 => 0xBF8059BB#32
  | 83 => 0xBEA89A01#32
  | 84 => 0x3FC11212#32
  | 85 => 0x3F23A35A#32
  | 86 => 0x4060D0A2#32
  | 87 => 0xBF36B9B5#32
  | 88 => 0x3E8E7BD5#32
  | 89 => 0x40250444#32
  | 90 => 0x3FA2883F#32
  | 91 => 0x3EBB9617#32
  | 92 => 0x3F196149#32
  | 93 => 0x3FC5689A#32
  | 94 => 0x3F3860C0#32
  | 95 => 0xBF26610B#32
  | 96 => 0xBF7D52FB#32
  | 97 => 0x3FB0198F#32
  | 98 => 0x4024E326#32
  | 99 => 0xBEB6BC27#32
  | 100 => 0x3F4EBBBC#32
  | 101 => 0xBE753A51#32
  | 102 => 0xBEBDE54F#32
  | 103 => 0x3F41FEAC#32
  | 104 => 0x3F773728#32
  | 105 => 0xBF1A938D#32
  | 106 => 0xBF0C409B#32
  | 107 => 0x3F0CBDEE#32
  | 108 => 0x3F88DF58#32
  | 109 => 0x3E075E10#32
  | 110 => 0xBF279FE5#32
  | 111 => 0x3F748133#32
  | 112 => 0x3E29D537#32
  | 113 => 0x401DD43E#32
  | 114 => 0x409EBE9E#32
  | 115 => 0x4029B6D6#32
  | 116 => 0x3F021D10#32
  | 117 => 0xBEBE9A4F#32
  | 118 => 0x3FCD09BB#32
  | 119 => 0xBEB28258#32
  | 120 => 0x3F92DDB9#32
  | 121 => 0x3FB027C2#32
  | 122 => 0x3ED8299E#32
  | 123 => 0x3F92EA48#32
  | 124 => 0xBDBA28C6#32
  | 125 => 0x4036996C#32
  | 126 => 0x3F6808CB#32
  | 127 => 0x3F88058A#32
  | _ => 0#32

noncomputable abbrev lit0t0_431 (i : Nat) : BitVec 32 := match i % 128 with
  | 0 => 0x402E1741#32
  | 1 => 0x4000EC71#32
  | 2 => 0x3F0A461E#32
  | 3 => 0xBF4DA68B#32
  | 4 => 0x40FF828F#32
  | 5 => 0xBF681D9E#32
  | 6 => 0xBE99C1DF#32
  | 7 => 0x3FA53502#32
  | 8 => 0x4004080D#32
  | 9 => 0xBF098586#32
  | 10 => 0xBFE19196#32
  | 11 => 0xBE09838F#32
  | 12 => 0x3EDBC577#32
  | 13 => 0xBE6478E5#32
  | 14 => 0x3F641C18#32
  | 15 => 0x3FAF420E#32
  | 16 => 0x3D01CC37#32
  | 17 => 0xBFA374FF#32
  | 18 => 0x40358300#32
  | 19 => 0xBE978D71#32
  | 20 => 0x3FB19376#32
  | 21 => 0xBE04D019#32
  | 22 => 0x3F7AA376#32
  | 23 => 0x3D1E3C28#32
  | 24 => 0x3EA876E5#32
  | 25 => 0xBF125409#32
  | 26 => 0x3F282E7B#32
  | 27 => 0x3E1611FE#32
  | 28 => 0xBE4FC249#32
  | 29 => 0xBE91D18C#32
  | 30 => 0x3FD8591C#32
  | 31 => 0x3F67C754#32
  | 32 => 0x3F6B2F7A#32
  | 33 => 0x3DE100EF#32
  | 34 => 0x3F306599#32
  | 35 => 0x3E820771#32
  | 36 => 0x3EE16DBB#32
  | 37 => 0xBE8130AE#32
  | 38 => 0xBF45DCE6#32
  | 39 => 0xBFE02FD7#32
  | 40 => 0x3E1355A9#32
  | 41 => 0x3FD87464#32
  | 42 => 0x409E6358#32
  | 43 => 0xBF17ADB4#32
  | 44 => 0xBF02BB2D#32
  | 45 => 0x3FD90379#32
  | 46 => 0x3FC14CA8#32
  | 47 => 0x405BC7D7#32
  | 48 => 0x3DF15815#32
  | 49 => 0xBE34EBD1#32
  | 50 => 0x3DFCC889#32
  | 51 => 0xBF1134C0#32
  | 52 => 0x3F81B178#32
  | 53 => 0x3FA5400B#32
  | 54 => 0xBFB069D8#32
  | 55 => 0x3FE2DE2E#32
  | 56 => 0x3F46340D#32
  | 57 => 0xBF04DA88#32
  | 58 => 0x3F82B335#32
  | 59 => 0x3FC8DF36#32
  | 60 => 0xBF86E872#32
  | 61 => 0xBE3CA24B#32
  | 62 => 0x3FE083B3#32
  | 63 => 0x3FA31F08#32
  | 64 => 0xBF1E9D04#32
  | 65 => 0x3F824CCC#32
  | 66 => 0xBDE5AC4D#32
  | 67 => 0x3F6F86D7#32
  | 68 => 0x40461799#32
  | 69 => 0x3F06D9E0#32
  | 70 => 0xBEC3D664#32
  | 71 => 0xBF947E4B#32
  | 72 => 0x3EDE454E#32
  | 73 => 0x3FDFD9A4#32
  | 74 => 0x3FA940D8#32
  | 75 => 0x3E71804D#32
  | 76 => 0x3EC747E1#32
  | 77 => 0x3E099F80#32
  | 78 => 0x3EDF9B41#32
  | 79 => 0x3F9B9F27#32
  | 80 => 0xBF759023#32
  | 81 => 0x40118DB7#32
  | 82 => 0xBFA333DF#32
  | 83 => 0x3F36D29D#32
  | 84 => 0x4023A7FA#32
  | 85 => 0xBCF8D988#32
  | 86 => 0x3E44B1FB#32
  | 87 => 0xBF1B3AB0#32
  | 88 => 0x3F15B6D7#32
  | 89 => 0xBD8AB32A#32
  | 90 => 0xBEFDC268#32
  | 91 => 0x3F66F126#32
  | 92 => 0x3C8B4FE9#32
  | 93 => 0x40182100#32
  | 94 => 0x3EB29937#32
  | 95 => 0x3C3F9D3B#32
  | 96 => 0x407A278A#32
  | 97 => 0x3F83E629#32
  | 98 => 0x3F7AAC18#32
  | 99 => 0x3F61CD4A#32
  | 100 => 0x3FCD39D9#32
  | 101 => 0x3FE5B7F2#32
  | 102 => 0x3F2D44C4#32
  | 103 => 0x3EFAA078#32
  | 104 => 0x40541EE5#32
  | 105 => 0x3F0CD415#32
  | 106 => 0xBF355985#32
  | 107 => 0xBE6D71E3#32
  | 108 => 0xBF2B3DCA#32
  | 109 => 0x3F46862B#32
  | 110 => 0xBFA16890#32
  | 111 => 0x3CD4A8CC#32
  | 112 => 0x3F061B38#32
  | 113 => 0x3CC88423#32
  | 114 => 0x3F1327DA#32
  | 115 => 0xBDBADF05#32
  | 116 => 0xBE061CE4#32
  | 117 => 0xBE1EE308#32
  | 118 => 0x3F26A1E0#32
  | 119 => 0xBF8A6C0E#32
  | 120 => 0x40015C0C#32
  | 121 => 0x3F1E031F#32
  | 122 => 0xBE4F82E2#32
  | 123 => 0x3F729A1C#32
  | 124 => 0x3D5F768F#32
  | 125 => 0x3F0C7B2E#32
  | 126 => 0x3F8D2591#32
  | 127 => 0x3F20238E#32
  | _ => 0#32

noncomputable abbrev lit0t0_432 (i : Nat) : BitVec 32 := match i % 128 with
  | 0 => 0x3E983B4F#32
  | 1 => 0x3FD8F8E2#32
  | 2 => 0x3EAE3E2D#32
  | 3 => 0xBE757673#32
  | 4 => 0xBF7AE39B#32
  | 5 => 0x3E41A2AF#32
  | 6 => 0xBD1F5A8F#32
  | 7 => 0x40080006#32
  | 8 => 0x3F749843#32
  | 9 => 0xBF085A5E#32
  | 10 => 0xBE6E18AB#32
  | 11 => 0xBFB57BF2#32
  | 12 => 0x4080FA28#32
  | 13 => 0x40038217#32
  | 14 => 0x3E89AC49#32
  | 15 => 0x3F814D82#32
  | 16 => 0x3F518C20#32
  | 17 => 0xBEC7E65A#32
  | 18 => 0x3F8C0C28#32
  | 19 => 0x3F4B2A7C#32
  | 20 => 0xBF2B457D#32
  | 21 => 0xBE901E4C#32
  | 22 => 0xBEF4462A#32
  | 23 => 0xBEF4B0D0#32
  | 24 => 0x3DCB8012#32
  | 25 => 0x3F7BE75E#32
  | 26 => 0xBE419164#32
  | 27 => 0x3EF40A50#32
  | 28 => 0x3FD994C7#32
  | 29 => 0x3E63DB52#32
  | 30 => 0x3FC3AA43#32
  | 31 => 0x3E8DB34F#32
  | 32 => 0x400F84CF#32
  | 33 => 0xBF315867#32
  | 34 => 0x40227C78#32
  | 35 => 0xBF2D47BF#32
  | 36 => 0x407B4272#32
  | 37 => 0x3FB5A495#32
  | 38 => 0x3F9AFE0C#32
  | 39 => 0x3FC34A7C#32
  | 40 => 0x400CBBD4#32
  | 41 => 0xBEF03D1A#32
  | 42 => 0x3F4D4935#32
  | 43 => 0x3F23D883#32
  | 44 => 0xBEA224D0#32
  | 45 => 0x3F29AE88#32
  | 46 => 0xBFE2D9CB#32
  | 47 => 0x3FC4C2DF#32
  | 48 => 0x3E87B2E3#32
  | 49 => 0xBE9D6295#32
  | 50 => 0xBE8DEB19#32
  | 51 => 0x402A358F#32
  | 52 => 0x3F9776E8#32
  | 53 => 0x40039454#32
  | 54 => 0xBF3AB2C6#32
  | 55 => 0x402B8E98#32
  | 56 => 0x3F9B3855#32
  | 57 => 0x3E28D117#32
  | 58 => 0xBF06B046#32
  | 59 => 0xBF0E1A3C#32
  | 60 => 0x3C7CA766#32
  | 61 => 0x40212FD6#32
  | 62 => 0x3F09A203#32
  | 63 => 0xBF365518#32
  | 64 => 0xBED245EA#32
  | 65 => 0xBF0593BE#32
  | 66 => 0x3F100B35#32
  | 67 => 0x3FAFEC52#32
  | 68 => 0x3F8409BC#32
  | 69 => 0x3FECDC1F#32
  | 70 => 0x3FE09D04#32
  | 71 => 0x3FBBF5A4#32
  | 72 => 0xBE8DE5BB#32
  | 73 => 0x3E6787A7#32
  | 74 => 0xBE8D9BEF#32
  | 75 => 0x3EDE093E#32
  | 76 => 0x3F94BC44#32
  | 77 => 0x40168BA5#32
  | 78 => 0x3EEEE8B2#32
  | 79 => 0x3FF0E04D#32
  | 80 => 0xBE5BFF15#32
  | 81 => 0xBD8511F7#32
  | 82 => 0x3F92EF5E#32
  | 83 => 0xBF4307B5#32
  | 84 => 0x40C19EF3#32
  | 85 => 0x401C6269#32
  | 86 => 0x3FD4056E#32
  | 87 => 0x3F018258#32
  | 88 => 0xBF0CFF48#32
  | 89 => 0xBE32A4CE#32
  | 90 => 0xBCA6E25E#32
  | 91 => 0xBF0DEC1C#32
  | 92 => 0xBFAE8C7A#32
  | 93 => 0x3F8F2462#32
  | 94 => 0x3E917EE0#32
  | 95 => 0x3FD70712#32
  | 96 => 0xC0044B80#32
  | 97 => 0x40984F20#32
  | 98 => 0x3D064B9E#32
  | 99 => 0x3F242668#32
  | 100 => 0x3BA7390C#32
  | 101 => 0xBF471C32#32
  | 102 => 0x3FC67347#32
  | 103 => 0xBF39C8D6#32
  | 104 => 0x3B76202B#32
  | 105 => 0x3F4A3657#32
  | 106 => 0x3E3B82E7#32
  | 107 => 0xBEC48028#32
  | 108 => 0xBF6AA1C1#32
  | 109 => 0xBF9F12E7#32
  | 110 => 0xBE825925#32
  | 111 => 0xBF0EB4DC#32
  | 112 => 0xBF1C21FF#32
  | 113 => 0x3EDD8754#32
  | 114 => 0x3F84205C#32
  | 115 => 0xBF08E309#32
  | 116 => 0x3FAF8E95#32
  | 117 => 0xBF89ECE6#32
  | 118 => 0x3D01B206#32
  | 119 => 0x3F9E2924#32
  | 120 => 0x3B2FC44A#32
  | 121 => 0x407EB2CC#32
  | 122 => 0xBE4103E8#32
  | 123 => 0xBF3301F7#32
  | 124 => 0xBF0DD721#32
  | 125 => 0xBF0E3526#32
  | 126 => 0xBEDAFC47#32
  | 127 => 0x3FA4B890#32
  | _ => 0#32

noncomputable abbrev lit0t0_433 (i : Nat) : BitVec 32 := match i % 128 with
  | 0 => 0x3FBFF0F7#32
  | 1 => 0x3FF6A8D4#32
  | 2 => 0xBE582312#32
  | 3 => 0xBF83667E#32
  | 4 => 0xBE3A1F9F#32
  | 5 => 0x404FA487#32
  | 6 => 0x40D16278#32
  | 7 => 0x400490BF#32
  | 8 => 0x3E85A1BF#32
  | 9 => 0x402D69F1#32
  | 10 => 0x3FC83C4A#32
  | 11 => 0x3EE17550#32
  | 12 => 0xBF4773DC#32
  | 13 => 0xBE0D59C8#32
  | 14 => 0xBE5D93EB#32
  | 15 => 0xBF09F173#32
  | 16 => 0x402A900A#32
  | 17 => 0x4010990D#32
  | 18 => 0x3F381635#32
  | 19 => 0xBD41B1FD#32
  | 20 => 0x3F12DF52#32
  | 21 => 0xBF5338CC#32
  | 22 => 0x3F5BA84A#32
  | 23 => 0xBF2DD999#32
  | 24 => 0x3FC1236E#32
  | 25 => 0x3FBB7806#32
  | 26 => 0x40B13E53#32
  | 27 => 0x3FC4F80C#32
  | 28 => 0x3FF7986F#32
  | 29 => 0xBFBDF204#32
  | 30 => 0x3F648B1E#32
  | 31 => 0x3FB9A327#32
  | 32 => 0x3F217252#32
  | 33 => 0x3F0A124F#32
  | 34 => 0xBFB5D8FA#32
  | 35 => 0x3E239793#32
  | 36 => 0x40C2104F#32
  | 37 => 0x3D8A778C#32
  | 38 => 0x3E831657#32
  | 39 => 0xBF5864C1#32
  | 40 => 0xBE731BE2#32
  | 41 => 0x3FB8F760#32
  | 42 => 0x3F04D9D8#32
  | 43 => 0xBFD59458#32
  | 44 => 0x3FF00025#32
  | 45 => 0x3D148541#32
  | 46 => 0xBE3B23E0#32
  | 47 => 0x3E881B13#32
  | 48 => 0xBF3B7B31#32
  | 49 => 0x3F4A4803#32
  | 50 => 0x3F30868A#32
  | 51 => 0xBE661A3F#32
  | 52 => 0xBF010214#32
  | 53 => 0x3F3BCC3A#32
  | 54 => 0x3F800CE8#32
  | 55 => 0xBF8DBA9C#32
  | 56 => 0xBF404AD3#32
  | 57 => 0xBF8BA6A0#32
  | 58 => 0x3FE6E682#32
  | 59 => 0xBEA0D770#32
  | 60 => 0x3F195F6A#32
  | 61 => 0x3F4AFB5A#32
  | 62 => 0xBEAF1AA4#32
  | 63 => 0x3F2E54BB#32
  | 64 => 0xBFBC3BF6#32
  | 65 => 0xBDA210FB#32
  | 66 => 0x3E9F2E75#32
  | 67 => 0x3FC6F5DE#32
  | 68 => 0x3F88F994#32
  | 69 => 0x3EAC780D#32
  | 70 => 0xBF8A9A4E#32
  | 71 => 0xBFC9E316#32
  | 72 => 0x3F81A77C#32
  | 73 => 0x3F19055A#32
  | 74 => 0x3E21F4D0#32
  | 75 => 0x405C2AA0#32
  | 76 => 0xBE820EEB#32
  | 77 => 0x3F4FC464#32
  | 78 => 0xBE44D157#32
  | 79 => 0x4002CAAE#32
  | 80 => 0xBFB63DD8#32
  | 81 => 0x3F81E46A#32
  | 82 => 0xBDA9BC9C#32
  | 83 => 0x3F3647BB#32
  | 84 => 0xBEF27B36#32
  | 85 => 0x3D228EB7#32
  | 86 => 0xBF30666E#32
  | 87 => 0x3FB50F2B#32
  | 88 => 0x3F9764E0#32
  | 89 => 0x3E047912#32
  | 90 => 0xBDF4DE66#32
  | 91 => 0xBD298BEA#32
  | 92 => 0x3F9F410D#32
  | 93 => 0x3F229F58#32
  | 94 => 0x3F0B2F96#32
  | 95 => 0x3F9559EA#32
  | 96 => 0xBD741CF8#32
  | 97 => 0xBFAB355E#32
  | 98 => 0xBF763A54#32
  | 99 => 0x3E995308#32
  | 100 => 0x400445CF#32
  | 101 => 0x3FBA8A16#32
  | 102 => 0x3E0E787C#32
  | 103 => 0x400E0B9A#32
  | 104 => 0x3F7EBDCA#32
  | 105 => 0xBF0C30FE#32
  | 106 => 0xBCDB6CEF#32
  | 107 => 0x40A09631#32
  | 108 => 0x3E6A2748#32
  | 109 => 0x3DFAE53D#32
  | 110 => 0xBFD097AE#32
  | 111 => 0x3E13A2CA#32
  | 112 => 0x4031E6EA#32
  | 113 => 0x3D3F6889#32
  | 114 => 0x3FCBC466#32
  | 115 => 0xBEF72008#32
  | 116 => 0x3FC98B8B#32
  | 117 => 0xBF710AC6#32
  | 118 => 0x401DE4A1#32
  | 119 => 0xBDF6B0A3#32
  | 120 => 0x3F23365D#32
  | 121 => 0x3FCE0162#32
  | 122 => 0xBF921286#32
  | 123 => 0x3F25A9BE#32
  | 124 => 0xBEB57AC3#32
  | 125 => 0x3E71F51E#32
  | 126 => 0xBF845070#32
  | 127 => 0x402A581B#32
  | _ => 0#32

noncomputable abbrev lit0t0_434 (i : Nat) : BitVec 32 := match i % 128 with
  | 0 => 0x3FEECC61#32
  | 1 => 0x400FBD44#32
  | 2 => 0xBF637B02#32
  | 3 => 0x3F71488C#32
  | 4 => 0xBECF3648#32
  | 5 => 0xBE0E1F63#32
  | 6 => 0xBED74FF4#32
  | 7 => 0x3F0F2D88#32
  | 8 => 0xBFA9C619#32
  | 9 => 0x402972E2#32
  | 10 => 0xBEAA1CF5#32
  | 11 => 0x3F85F467#32
  | 12 => 0x3F871EE7#32
  | 13 => 0xBE64E8C0#32
  | 14 => 0xBEFB9DC0#32
  | 15 => 0xBF4B690E#32
  | 16 => 0x3E5EC761#32
  | 17 => 0xBD4705C5#32
  | 18 => 0xBF250D2A#32
  | 19 => 0x3F1D5C94#32
  | 20 => 0x3F08F548#32
  | 21 => 0xBF3ACFB4#32
  | 22 => 0xBFC4AFAE#32
  | 23 => 0x3E744A04#32
  | 24 => 0x3F5FCA54#32
  | 25 => 0xBF79AA39#32
  | 26 => 0x3D362534#32
  | 27 => 0x3F4C9B44#32
  | 28 => 0x3F075EB8#32
  | 29 => 0x3F836A53#32
  | 30 => 0xBF85FFFE#32
  | 31 => 0x3EAC9DFD#32
  | 32 => 0x40109B50#32
  | 33 => 0x3E5BC24D#32
  | 34 => 0x3F6434A5#32
  | 35 => 0xBE97D156#32
  | 36 => 0xBE526C57#32
  | 37 => 0x3E5E042E#32
  | 38 => 0x3E198ECF#32
  | 39 => 0x3F3C7B5C#32
  | 40 => 0xBF202A80#32
  | 41 => 0x403C1044#32
  | 42 => 0x40089861#32
  | 43 => 0x3F180A74#32
  | 44 => 0xBF1271AD#32
  | 45 => 0xBF456F59#32
  | 46 => 0x3CAE2790#32
  | 47 => 0xBF7791D2#32
  | 48 => 0x3F9B68C6#32
  | 49 => 0x3F75F880#32
  | 50 => 0x40AFD394#32
  | 51 => 0x40347D3D#32
  | 52 => 0x4000E134#32
  | 53 => 0x3D28FFF1#32
  | 54 => 0x3F56511D#32
  | 55 => 0x4097FBDC#32
  | 56 => 0x3FA6D780#32
  | 57 => 0xBF43B0AD#32
  | 58 => 0x3EAB5A07#32
  | 59 => 0x40134B14#32
  | 60 => 0x3FB45990#32
  | 61 => 0x3F92EF96#32
  | 62 => 0x3F1FE166#32
  | 63 => 0x3FB0FD98#32
  | 64 => 0xBF647B2C#32
  | 65 => 0x400657DA#32
  | 66 => 0x40096136#32
  | 67 => 0xBB76BCF2#32
  | 68 => 0x40311E1B#32
  | 69 => 0x3F833F7F#32
  | 70 => 0x3FD7635E#32
  | 71 => 0x3CB06D61#32
  | 72 => 0xBEBDCC5E#32
  | 73 => 0x3E93041D#32
  | 74 => 0xBE33712B#32
  | 75 => 0x3F1DCD34#32
  | 76 => 0x3EEC7F6E#32
  | 77 => 0x3FDDC1AE#32
  | 78 => 0x400A278C#32
  | 79 => 0xBF0684A0#32
  | 80 => 0x4018B81D#32
  | 81 => 0xBEB875B8#32
  | 82 => 0x3E3C9387#32
  | 83 => 0x3FC3F4FB#32
  | 84 => 0x3F0172F4#32
  | 85 => 0xBF411C8E#32
  | 86 => 0x3F901A0D#32
  | 87 => 0x3EA4EE4E#32
  | 88 => 0x3EDA6381#32
  | 89 => 0x3EAE9BA4#32
  | 90 => 0xBD6E0B67#32
  | 91 => 0x4084C134#32
  | 92 => 0x3FD6593D#32
  | 93 => 0x3FE461DB#32
  | 94 => 0x3F5706E0#32
  | 95 => 0xBE31BFB3#32
  | 96 => 0x405E2EDD#32
  | 97 => 0x401EDBA1#32
  | 98 => 0xBD440762#32
  | 99 => 0xBDF736A6#32
  | 100 => 0x3FB223CD#32
  | 101 => 0x3F18A78F#32
  | 102 => 0xBF3930C0#32
  | 103 => 0x3F3716B0#32
  | 104 => 0x4050917B#32
  | 105 => 0x3F7FD6AA#32
  | 106 => 0x3F462EB4#32
  | 107 => 0x3E9EDDCC#32
  | 108 => 0xBFB6994F#32
  | 109 => 0x3F897F08#32
  | 110 => 0x3E3CC211#32
  | 111 => 0x3EEFC980#32
  | 112 => 0x3F8C1CCE#32
  | 113 => 0x3D8AF6BF#32
  | 114 => 0xBF144A5A#32
  | 115 => 0x3F9F6628#32
  | 116 => 0x4014BA63#32
  | 117 => 0x3FC895DF#32
  | 118 => 0x3FEC794D#32
  | 119 => 0xBF9045F8#32
  | 120 => 0x3E9FDD7C#32
  | 121 => 0x4001D639#32
  | 122 => 0x3FA25B7A#32
  | 123 => 0x3F63E94E#32
  | 124 => 0x3F9B5197#32
  | 125 => 0x3FF2558B#32
  | 126 => 0x3EA4DF2B#32
  | 127 => 0xBE2C0CCE#32
  | _ => 0#32

noncomputable abbrev lit0t0_435 (i : Nat) : BitVec 32 := match i % 128 with
  | 0 => 0x3F0F01CC#32
  | 1 => 0xBF050849#32
  | 2 => 0x3EC96EF4#32
  | 3 => 0xBF58BDBF#32
  | 4 => 0x3F11BF07#32
  | 5 => 0xBF41B26A#32
  | 6 => 0xBE8AC7D5#32
  | 7 => 0x3F9A4931#32
  | 8 => 0x3F214831#32
  | 9 => 0x3FCC2DFE#32
  | 10 => 0x3F0C4711#32
  | 11 => 0x3F9C07FA#32
  | 12 => 0x3F75775E#32
  | 13 => 0x3EF84B68#32
  | 14 => 0x40886502#32
  | 15 => 0x3FF398C9#32
  | 16 => 0xBFDF030A#32
  | 17 => 0xBF23F86A#32
  | 18 => 0x4015CB22#32
  | 19 => 0x3F182DBA#32
  | 20 => 0x40AD5078#32
  | 21 => 0x3F1B708F#32
  | 22 => 0x3FBA0A32#32
  | 23 => 0xBEA64B43#32
  | 24 => 0xBF443B96#32
  | 25 => 0xBDE6C385#32
  | 26 => 0x3E96BD77#32
  | 27 => 0xBED48EB2#32
  | 28 => 0x4057B68F#32
  | 29 => 0x3F184F24#32
  | 30 => 0xBE55D0B9#32
  | 31 => 0x3F954AE9#32
  | 32 => 0xBD7EE994#32
  | 33 => 0x3F8FC3AB#32
  | 34 => 0xBDBD5CAD#32
  | 35 => 0xBF913CEC#32
  | 36 => 0x3E9A47D9#32
  | 37 => 0x3DCFBA4A#32
  | 38 => 0xBEBD64C9#32
  | 39 => 0xBF3CED7A#32
  | 40 => 0x404DF4A6#32
  | 41 => 0x3FF2A682#32
  | 42 => 0x3FD09C1A#32
  | 43 => 0x3D9C6DED#32
  | 44 => 0xBF9E74E2#32
  | 45 => 0xBF05E5DD#32
  | 46 => 0x3FDF710A#32
  | 47 => 0x3F09896E#32
  | 48 => 0x3FAA103A#32
  | 49 => 0x3FFABC4C#32
  | 50 => 0xBEAC2B66#32
  | 51 => 0x3F9C8D4C#32
  | 52 => 0xBF49A3A7#32
  | 53 => 0xBF7E7EDE#32
  | 54 => 0x3E9EB63C#32
  | 55 => 0x3F06F122#32
  | 56 => 0x3FAD8175#32
  | 57 => 0xBECCD3CD#32
  | 58 => 0x3F5B5F33#32
  | 59 => 0xBF08326C#32
  | 60 => 0x3F3F29F7#32
  | 61 => 0x3FDC4710#32
  | 62 => 0xBF23B949#32
  | 63 => 0x3EB375DD#32
  | 64 => 0xBDFD19BA#32
  | 65 => 0x3F97D458#32
  | 66 => 0x3F35CB4B#32
  | 67 => 0x401CED47#32
  | 68 => 0x4085A327#32
  | 69 => 0xBEDE2ABE#32
  | 70 => 0xBF24F228#32
  | 71 => 0x3FFFA8AF#32
  | 72 => 0x400A151B#32
  | 73 => 0xBE86A258#32
  | 74 => 0xBF1BB792#32
  | 75 => 0xBE904FC4#32
  | 76 => 0xBF048F60#32
  | 77 => 0xBD207A97#32
  | 78 => 0x40B47D04#32
  | 79 => 0x3F5F277C#32
  | 80 => 0x3D730211#32
  | 81 => 0xBF4CBBC5#32
  | 82 => 0xBF30EFC0#32
  | 83 => 0xBE65F925#32
  | 84 => 0xBE16A0D8#32
  | 85 => 0x3F335BCE#32
  | 86 => 0x3FB9FD88#32
  | 87 => 0x3F73CDF1#32
  | 88 => 0xBCC4DAA0#32
  | 89 => 0xBF0DCE13#32
  | 90 => 0x4027885E#32
  | 91 => 0x3FC6F283#32
  | 92 => 0xBF5B5510#32
  | 93 => 0x3E10BCE7#32
  | 94 => 0x3F3D3162#32
  | 95 => 0x3F9AB53C#32
  | 96 => 0xBE119265#32
  | 97 => 0x3FAEAAC4#32
  | 98 => 0xBF30FD1E#32
  | 99 => 0x401AFC65#32
  | 100 => 0x3F40251D#32
  | 101 => 0xBF02313A#32
  | 102 => 0xBD72DEF3#32
  | 103 => 0x4011FAE0#32
  | 104 => 0xBE171D16#32
  | 105 => 0xBF8519D8#32
  | 106 => 0x3FAB59D4#32
  | 107 => 0x3F6758CD#32
  | 108 => 0x3E5ECE29#32
  | 109 => 0x3F5140CB#32
  | 110 => 0x3FBC72DD#32
  | 111 => 0xBFC1D709#32
  | 112 => 0xBE87B0E7#32
  | 113 => 0x3F4B0BC6#32
  | 114 => 0x3F988191#32
  | 115 => 0xBF61A792#32
  | 116 => 0x403B58C3#32
  | 117 => 0x3F56C9B3#32
  | 118 => 0xBEA52590#32
  | 119 => 0x3E8DEBB4#32
  | 120 => 0xBE9CF88E#32
  | 121 => 0x401E425A#32
  | 122 => 0xBF0B71CA#32
  | 123 => 0xBF0F319A#32
  | 124 => 0x3F28CE09#32
  | 125 => 0x40150A2B#32
  | 126 => 0x3FE615AE#32
  | 127 => 0x3ED6C2C5#32
  | _ => 0#32

noncomputable abbrev lit0t0_436 (i : Nat) : BitVec 32 := match i % 128 with
  | 0 => 0x3F0367FC#32
  | 1 => 0x3F7FCB1A#32
  | 2 => 0x3EFDEA62#32
  | 3 => 0xBF95D272#32
  | 4 => 0x3FAB5B0C#32
  | 5 => 0x40154718#32
  | 6 => 0x3DAC4D41#32
  | 7 => 0x3D0AFD2A#32
  | 8 => 0x3F755B3B#32
  | 9 => 0xBEF676C2#32
  | 10 => 0x3F74E721#32
  | 11 => 0x3E128ADE#32
  | 12 => 0xBF5A90FE#32
  | 13 => 0xBF40ADDC#32
  | 14 => 0x3F9EC143#32
  | 15 => 0x3FAAB166#32
  | 16 => 0xBF3A7B30#32
  | 17 => 0x3F111B97#32
  | 18 => 0x3F8DF209#32
  | 19 => 0xBFAB2C65#32
  | 20 => 0x3EEF43DA#32
  | 21 => 0x3F0EC6AB#32
  | 22 => 0x3F69F84B#32
  | 23 => 0x3D0E46F3#32
  | 24 => 0x3F6270D0#32
  | 25 => 0xBEFEFCBC#32
  | 26 => 0x3C3D5D12#32
  | 27 => 0x3E6C9E96#32
  | 28 => 0x3D889E60#32
  | 29 => 0xBDE10F83#32
  | 30 => 0xBDBFABA1#32
  | 31 => 0xBE7A3E45#32
  | 32 => 0x405C737F#32
  | 33 => 0xBF72439F#32
  | 34 => 0x3F8F1326#32
  | 35 => 0x3F427837#32
  | 36 => 0x3E828866#32
  | 37 => 0x3F4780DC#32
  | 38 => 0x3F87CD08#32
  | 39 => 0x402D95D7#32
  | 40 => 0xBE8AE8B1#32
  | 41 => 0x3E0DCC14#32
  | 42 => 0x3F81459F#32
  | 43 => 0xBE5F2A9F#32
  | 44 => 0xBF56646E#32
  | 45 => 0x3E390EDD#32
  | 46 => 0xBF3D2885#32
  | 47 => 0x40547CDC#32
  | 48 => 0x40287446#32
  | 49 => 0x407007B1#32
  | 50 => 0x3F8E124A#32
  | 51 => 0x3F7A1BA8#32
  | 52 => 0x400EEB8C#32
  | 53 => 0x3E879C84#32
  | 54 => 0x3F907B67#32
  | 55 => 0xBF0A0D96#32
  | 56 => 0x3E1CD44F#32
  | 57 => 0x3FA9B04C#32
  | 58 => 0x3FC85108#32
  | 59 => 0x3FDE2C60#32
  | 60 => 0x3F1FE8BE#32
  | 61 => 0xBEE7F1FD#32
  | 62 => 0xBDEECA7A#32
  | 63 => 0x40344156#32
  | 64 => 0x3E833DAF#32
  | 65 => 0xBEED6BC0#32
  | 66 => 0x3E46081E#32
  | 67 => 0x3F3AE14A#32
  | 68 => 0x3F7CD881#32
  | 69 => 0x3F2F532B#32
  | 70 => 0x405D45A6#32
  | 71 => 0x3FBAB01C#32
  | 72 => 0x40453058#32
  | 73 => 0xBD9672AE#32
  | 74 => 0x3EFD7796#32
  | 75 => 0xBE0A1AAB#32
  | 76 => 0xBE060268#32
  | 77 => 0x40536EB5#32
  | 78 => 0x408A1603#32
  | 79 => 0xBE35DCB3#32
  | 80 => 0x3FB80FF3#32
  | 81 => 0xBF46A40C#32
  | 82 => 0x3F5F1120#32
  | 83 => 0x3E3A667D#32
  | 84 => 0x3F714A62#32
  | 85 => 0x3E7BBD44#32
  | 86 => 0xBDC93871#32
  | 87 => 0xBFE257A1#32
  | 88 => 0xBEDB1733#32
  | 89 => 0xBE89A832#32
  | 90 => 0xBF2DD52F#32
  | 91 => 0xBF3C5B02#32
  | 92 => 0x3FA02AB4#32
  | 93 => 0xBF4FEB02#32
  | 94 => 0x3FCFAFCC#32
  | 95 => 0xBEC49906#32
  | 96 => 0xBF0444FE#32
  | 97 => 0x3F8EEFD0#32
  | 98 => 0x3F1036FA#32
  | 99 => 0x3D84FF03#32
  | 100 => 0xBF96D3F6#32
  | 101 => 0x4032A366#32
  | 102 => 0xBBDA28AD#32
  | 103 => 0xBEC864CD#32
  | 104 => 0x3EF2087A#32
  | 105 => 0xBF3D8430#32
  | 106 => 0x3FD6E014#32
  | 107 => 0xBFAAE061#32
  | 108 => 0x3F549639#32
  | 109 => 0x3EC1BE36#32
  | 110 => 0xBF91EFCF#32
  | 111 => 0x3F42BB43#32
  | 112 => 0xBE908D7E#32
  | 113 => 0xBE507453#32
  | 114 => 0xBE95A5A7#32
  | 115 => 0x40556CA0#32
  | 116 => 0x3FA33DF5#32
  | 117 => 0x3EB5EB65#32
  | 118 => 0xBE4E009E#32
  | 119 => 0x3F825E90#32
  | 120 => 0x40013F35#32
  | 121 => 0x3EA0E513#32
  | 122 => 0xBF1D9108#32
  | 123 => 0x3F4D96E5#32
  | 124 => 0xBEAD7A19#32
  | 125 => 0x3ECC3065#32
  | 126 => 0xBF4034FA#32
  | 127 => 0xBF5E95E3#32
  | _ => 0#32

noncomputable abbrev lit0t0_437 (i : Nat) : BitVec 32 := match i % 128 with
  | 0 => 0xBF068C3E#32
  | 1 => 0x406C5836#32
  | 2 => 0x3DB33EB9#32
  | 3 => 0x3E048552#32
  | 4 => 0x3FA68EAE#32
  | 5 => 0xBEE13A6F#32
  | 6 => 0xBEC5E0A4#32
  | 7 => 0x3F219C2A#32
  | 8 => 0x4001A9CB#32
  | 9 => 0x4081560A#32
  | 10 => 0x3FBB4AF8#32
  | 11 => 0x3FAF02EA#32
  | 12 => 0x3F10D93C#32
  | 13 => 0xBEA13058#32
  | 14 => 0x3EC45B92#32
  | 15 => 0x3E9069FC#32
  | 16 => 0xBFBBD9AB#32
  | 17 => 0x3F4AAC03#32
  | 18 => 0x3F7B2D61#32
  | 19 => 0x3F4F5495#32
  | 20 => 0xBF3F4D75#32
  | 21 => 0xBF20CEE1#32
  | 22 => 0x3EAA95EA#32
  | 23 => 0x3D0125FB#32
  | 24 => 0xBECB5B20#32
  | 25 => 0x40371358#32
  | 26 => 0x3FFAB325#32
  | 27 => 0xBF17BC0B#32
  | 28 => 0x3F4868C6#32
  | 29 => 0x4027588D#32
  | 30 => 0x3EA4E8C9#32
  | 31 => 0x3F8DF3C8#32
  | 32 => 0xBF4E3DB0#32
  | 33 => 0xBF7E7661#32
  | 34 => 0xBF280A93#32
  | 35 => 0x3F8FBBC4#32
  | 36 => 0x404E6420#32
  | 37 => 0xBEE4EBD2#32
  | 38 => 0x3FA6363C#32
  | 39 => 0xBE9D024F#32
  | 40 => 0x409CF059#32
  | 41 => 0xBE7420BB#32
  | 42 => 0xBE8E00AC#32
  | 43 => 0xBE99439F#32
  | 44 => 0x3E23530A#32
  | 45 => 0x40339929#32
  | 46 => 0xBE1DF14A#32
  | 47 => 0x3F057BDA#32
  | 48 => 0xBF4C6FD4#32
  | 49 => 0xBEEB5036#32
  | 50 => 0x4068ECD5#32
  | 51 => 0xBF49660E#32
  | 52 => 0x3E8AD14A#32
  | 53 => 0x3F3BEA1B#32
  | 54 => 0x4078A357#32
  | 55 => 0x3F5477D4#32
  | 56 => 0x3EBCA586#32
  | 57 => 0x3F9CC816#32
  | 58 => 0x3DD1E09A#32
  | 59 => 0x3FDA4D1F#32
  | 60 => 0xBE957605#32
  | 61 => 0xBF5B78EB#32
  | 62 => 0x403C4732#32
  | 63 => 0x3F85B52A#32
  | 64 => 0x3ED97740#32
  | 65 => 0x3FAFD5B2#32
  | 66 => 0xBE52F69A#32
  | 67 => 0xBF3FAE3C#32
  | 68 => 0xBDC8F4A0#32
  | 69 => 0x3F467AAF#32
  | 70 => 0xBF917852#32
  | 71 => 0xBEAFC924#32
  | 72 => 0x3FC78130#32
  | 73 => 0xBE8E4456#32
  | 74 => 0xBF6E0CA0#32
  | 75 => 0x3F9880D1#32
  | 76 => 0xBEA395CC#32
  | 77 => 0xBDA2A368#32
  | 78 => 0xBF0F1F4B#32
  | 79 => 0x3DC63AF9#32
  | 80 => 0x40EE0A9A#32
  | 81 => 0x3F15818A#32
  | 82 => 0xBE28736E#32
  | 83 => 0xBE921E1D#32
  | 84 => 0x3FBDB178#32
  | 85 => 0x3E32B3FC#32
  | 86 => 0xBF90A560#32
  | 87 => 0xBD3FBF07#32
  | 88 => 0x3D5F3798#32
  | 89 => 0x3E95B8B2#32
  | 90 => 0x3FBA14B1#32
  | 91 => 0xBD22E2C8#32
  | 92 => 0xBDC30081#32
  | 93 => 0x3FA20D55#32
  | 94 => 0x3FBB6D3B#32
  | 95 => 0x3F0BF020#32
  | 96 => 0x3E1A3600#32
  | 97 => 0x3CFEEFCF#32
  | 98 => 0xBF1D62C2#32
  | 99 => 0x3F0AC82A#32
  | 100 => 0x3F031C0C#32
  | 101 => 0x3DAA7639#32
  | 102 => 0x3F942A04#32
  | 103 => 0xBE7E108F#32
  | 104 => 0x3F556FE4#32
  | 105 => 0x3E85DF68#32
  | 106 => 0xBC2B728E#32
  | 107 => 0x3F096D8F#32
  | 108 => 0xBF848EED#32
  | 109 => 0x3FB0B334#32
  | 110 => 0x3FCA70EE#32
  | 111 => 0x3F065AD2#32
  | 112 => 0x3F3592DE#32
  | 113 => 0x3F1E5C71#32
  | 114 => 0x3FF753C1#32
  | 115 => 0x3FA11980#32
  | 116 => 0xBE9A442F#32
  | 117 => 0x3F9D19AB#32
  | 118 => 0x3D328A22#32
  | 119 => 0x3F72BF81#32
  | 120 => 0xBECD47CD#32
  | 121 => 0xBC571E61#32
  | 122 => 0x3FD6EA8C#32
  | 123 => 0x3FEC36A2#32
  | 124 => 0x40429A60#32
  | 125 => 0xBF27F3DF#32
  | 126 => 0xBDE4B0F1#32
  | 127 => 0xBF5E12C2#32
  | _ => 0#32

noncomputable abbrev lit0t0_438 (i : Nat) : BitVec 32 := match i % 128 with
  | 0 => 0x3FDF8D83#32
  | 1 => 0xBF375859#32
  | 2 => 0xBEAB6701#32
  | 3 => 0xBEA9B14F#32
  | 4 => 0x3FF2104F#32
  | 5 => 0x3E1C4D32#32
  | 6 => 0x3F6EBACB#32
  | 7 => 0x3FE2E772#32
  | 8 => 0x3E98CA0C#32
  | 9 => 0x3FAABBDD#32
  | 10 => 0x3F175698#32
  | 11 => 0x3F99CC0F#32
  | 12 => 0x3CF82812#32
  | 13 => 0x3FB3DBD2#32
  | 14 => 0x401F37B9#32
  | 15 => 0x4057AEDB#32
  | 16 => 0x3FD19822#32
  | 17 => 0x3F8418D8#32
  | 18 => 0x3F292B08#32
  | 19 => 0x400DFA99#32
  | 20 => 0x3F7A404A#32
  | 21 => 0x3EBE751E#32
  | 22 => 0xBBBE81F4#32
  | 23 => 0x3F603FCB#32
  | 24 => 0xBDDCCA2D#32
  | 25 => 0xBE168B49#32
  | 26 => 0x3F93E612#32
  | 27 => 0x3F368652#32
  | 28 => 0xBEED64CF#32
  | 29 => 0x3CC763F0#32
  | 30 => 0xBE2CC27C#32
  | 31 => 0xBD8AC69C#32
  | 32 => 0xBF02908E#32
  | 33 => 0x3FD2E199#32
  | 34 => 0xBE902315#32
  | 35 => 0x3FFCF61C#32
  | 36 => 0xBF851573#32
  | 37 => 0x3FF44E10#32
  | 38 => 0x3F345BBE#32
  | 39 => 0xBFAA6C29#32
  | 40 => 0x4083A373#32
  | 41 => 0x3FB71B52#32
  | 42 => 0x3E2DC5FC#32
  | 43 => 0x40589B93#32
  | 44 => 0x3F72DEDA#32
  | 45 => 0x404408D5#32
  | 46 => 0xBE96BEAD#32
  | 47 => 0xBE84353C#32
  | 48 => 0x3F05DF9B#32
  | 49 => 0x3F8B3F14#32
  | 50 => 0xBF41B847#32
  | 51 => 0x3EEE2208#32
  | 52 => 0xBDD55ADE#32
  | 53 => 0x3FA3F981#32
  | 54 => 0x3FC00F4B#32
  | 55 => 0xBF1F29F3#32
  | 56 => 0x3F28F9C7#32
  | 57 => 0xBF791652#32
  | 58 => 0xBF14E0DE#32
  | 59 => 0x3F35C812#32
  | 60 => 0xBFA67662#32
  | 61 => 0x4021F3F7#32
  | 62 => 0x4083BCEE#32
  | 63 => 0x3F4B2CB6#32
  | 64 => 0x3FE6D82A#32
  | 65 => 0x40391552#32
  | 66 => 0x3F690BE1#32
  | 67 => 0xBD563AB9#32
  | 68 => 0xBCDC7C0D#32
  | 69 => 0x3EBB9F54#32
  | 70 => 0x3F096B6D#32
  | 71 => 0xBDC3565C#32
  | 72 => 0x3F55979B#32
  | 73 => 0x3F630A27#32
  | 74 => 0xBEF24536#32
  | 75 => 0x3F5D8EA0#32
  | 76 => 0x408FC3A0#32
  | 77 => 0x3F0EBFE4#32
  | 78 => 0xBFA02E1D#32
  | 79 => 0xBD937227#32
  | 80 => 0x3FB87258#32
  | 81 => 0x3F1BE354#32
  | 82 => 0x3F8C66C4#32
  | 83 => 0x3F260B10#32
  | 84 => 0xBEF9F926#32
  | 85 => 0xBF48156C#32
  | 86 => 0x3EC0CAEC#32
  | 87 => 0x3F590CA6#32
  | 88 => 0xBED791F7#32
  | 89 => 0x3FA2E4BD#32
  | 90 => 0xBFDC249A#32
  | 91 => 0xBEF719B2#32
  | 92 => 0x3FA9C172#32
  | 93 => 0xBC76FA0E#32
  | 94 => 0x3E9BA320#32
  | 95 => 0xBD54BFA1#32
  | 96 => 0xBF91F0AA#32
  | 97 => 0x3ED546D0#32
  | 98 => 0xBF0C6C1E#32
  | 99 => 0x4022F93F#32
  | 100 => 0x400842AB#32
  | 101 => 0x3F5A4FB5#32
  | 102 => 0x3F05E222#32
  | 103 => 0xBEF0BACC#32
  | 104 => 0xBE0FC679#32
  | 105 => 0x3BA9E38C#32
  | 106 => 0x3F816051#32
  | 107 => 0xBF7259A2#32
  | 108 => 0x3F22A125#32
  | 109 => 0xBF60C2B7#32
  | 110 => 0xBF325DA7#32
  | 111 => 0xBD809E2A#32
  | 112 => 0x402D8DBB#32
  | 113 => 0x3ECAF6C7#32
  | 114 => 0xBF75E500#32
  | 115 => 0x3F5705D8#32
  | 116 => 0x3C6E954D#32
  | 117 => 0xBF9353B3#32
  | 118 => 0x3FB6FC76#32
  | 119 => 0x3FB06E47#32
  | 120 => 0xBEE8159F#32
  | 121 => 0x3EFFABF4#32
  | 122 => 0xBF89F0E2#32
  | 123 => 0xBF4A1C55#32
  | 124 => 0x3FDDC400#32
  | 125 => 0xBF67F8A2#32
  | 126 => 0x3F5C2CC2#32
  | 127 => 0xBEA39255#32
  | _ => 0#32

noncomputable abbrev lit0t0_439 (i : Nat) : BitVec 32 := match i % 128 with
  | 0 => 0xBF276CF4#32
  | 1 => 0x3E389238#32
  | 2 => 0x40057982#32
  | 3 => 0xBEBFEFC1#32
  | 4 => 0x3E793AA2#32
  | 5 => 0xBF90BD85#32
  | 6 => 0x3F26D3A5#32
  | 7 => 0x3E957B3A#32
  | 8 => 0xBEFB3DFE#32
  | 9 => 0x400C0779#32
  | 10 => 0xBCD36534#32
  | 11 => 0x406AB934#32
  | 12 => 0xBF95F1CC#32
  | 13 => 0xBEB28FDA#32
  | 14 => 0x3FE051D2#32
  | 15 => 0x3FCC2C5E#32
  | 16 => 0x3F991EBE#32
  | 17 => 0x4001F619#32
  | 18 => 0xBFCF07DA#32
  | 19 => 0x3FDF62A7#32
  | 20 => 0x3F075F52#32
  | 21 => 0xBEDAC042#32
  | 22 => 0x3F93CA69#32
  | 23 => 0x3FBA0238#32
  | 24 => 0x3E522407#32
  | 25 => 0xBF671E3F#32
  | 26 => 0x3E1EE2DC#32
  | 27 => 0x3F3AEF70#32
  | 28 => 0x3FD7E2B2#32
  | 29 => 0xBF610FC5#32
  | 30 => 0xBD9DF4A0#32
  | 31 => 0x3E74051E#32
  | 32 => 0x3BED1509#32
  | 33 => 0xBF9A3C50#32
  | 34 => 0xBF93533C#32
  | 35 => 0x3DFB60A2#32
  | 36 => 0x3E4B0E47#32
  | 37 => 0x4040A9AD#32
  | 38 => 0xBE0860A1#32
  | 39 => 0x403E7126#32
  | 40 => 0xBEC6AE77#32
  | 41 => 0x4075DE4D#32
  | 42 => 0x3F380103#32
  | 43 => 0x3EE2A918#32
  | 44 => 0x4050801D#32
  | 45 => 0xBEDF0BDB#32
  | 46 => 0xBF213308#32
  | 47 => 0x408810AA#32
  | 48 => 0xBE7E50F3#32
  | 49 => 0x40A3682B#32
  | 50 => 0xBE8ECA54#32
  | 51 => 0xBF3F7BED#32
  | 52 => 0x3D125333#32
  | 53 => 0x3FF588C5#32
  | 54 => 0x3F3817FA#32
  | 55 => 0x3F6F1750#32
  | 56 => 0xBEFB1F3A#32
  | 57 => 0x3FACF053#32
  | 58 => 0x3EC6BF17#32
  | 59 => 0x3EBDD207#32
  | 60 => 0x3EF39ED1#32
  | 61 => 0xBDDF9788#32
  | 62 => 0x4005DEFA#32
  | 63 => 0x3F7A3240#32
  | 64 => 0x3EA6BDBD#32
  | 65 => 0xBF4EEE28#32
  | 66 => 0x4002EA36#32
  | 67 => 0xBDBD941E#32
  | 68 => 0xBFBDD968#32
  | 69 => 0x3EFADB88#32
  | 70 => 0x3DBEEC70#32
  | 71 => 0x3F86680C#32
  | 72 => 0x3E94AFF5#32
  | 73 => 0x3F4A73C3#32
  | 74 => 0x3FBB13F6#32
  | 75 => 0x3F069D8B#32
  | 76 => 0x3D54522A#32
  | 77 => 0xBF1C932D#32
  | 78 => 0x3F670534#32
  | 79 => 0x3F8134BC#32
  | 80 => 0xBF3EA99C#32
  | 81 => 0x3F606892#32
  | 82 => 0x40557026#32
  | 83 => 0xBF7C6855#32
  | 84 => 0xBF5E8992#32
  | 85 => 0x408826C0#32
  | 86 => 0x3E391843#32
  | 87 => 0xBEF7AA12#32
  | 88 => 0x3E283DE0#32
  | 89 => 0x3FB052B0#32
  | 90 => 0x3F9FCAEF#32
  | 91 => 0x3E8270E4#32
  | 92 => 0x3F0F16B6#32
  | 93 => 0x3E3478B8#32
  | 94 => 0xBEAB0989#32
  | 95 => 0xBF1730BC#32
  | 96 => 0xBF1A26FC#32
  | 97 => 0xBF38A96A#32
  | 98 => 0x3EC55824#32
  | 99 => 0x3DDDE7EE#32
  | 100 => 0x40775895#32
  | 101 => 0x3F8476FE#32
  | 102 => 0x3FB04028#32
  | 103 => 0x4003FAF2#32
  | 104 => 0x3DB37F32#32
  | 105 => 0x3F718D30#32
  | 106 => 0xBF432E5E#32
  | 107 => 0x3E26FC31#32
  | 108 => 0x4066527F#32
  | 109 => 0xBF41BA0A#32
  | 110 => 0x3FF99197#32
  | 111 => 0xBF596BAD#32
  | 112 => 0x3F69215D#32
  | 113 => 0x3EE3A6DF#32
  | 114 => 0x3EDEAE3F#32
  | 115 => 0x3FEA47A1#32
  | 116 => 0xBCC3CC30#32
  | 117 => 0x400C4A76#32
  | 118 => 0xBF55E6DC#32
  | 119 => 0x3CB2C0E7#32
  | 120 => 0x3E22AD09#32
  | 121 => 0x40358E84#32
  | 122 => 0x3F4D97A8#32
  | 123 => 0xBD062917#32
  | 124 => 0x404E6341#32
  | 125 => 0x3F96A3C5#32
  | 126 => 0x3FA8B1B6#32
  | 127 => 0xBF2253F9#32
  | _ => 0#32

noncomputable abbrev lit0t0_440 (i : Nat) : BitVec 32 := match i % 128 with
  | 0 => 0x3FB52478#32
  | 1 => 0x40072CB7#32
  | 2 => 0x3E861808#32
  | 3 => 0x3F2AF39A#32
  | 4 => 0xBF14FAC4#32
  | 5 => 0x3E20BC1A#32
  | 6 => 0x3F4A1A5A#32
  | 7 => 0x3E6474BF#32
  | 8 => 0xBDFF6F76#32
  | 9 => 0x3FB57D48#32
  | 10 => 0x3EE8D424#32
  | 11 => 0xBF1CB67A#32
  | 12 => 0x401D2A83#32
  | 13 => 0xBE179D35#32
  | 14 => 0xBC58725F#32
  | 15 => 0xBEB92D04#32
  | 16 => 0x3F17B75C#32
  | 17 => 0x3EB28BAC#32
  | 18 => 0x40872293#32
  | 19 => 0xBFA94489#32
  | 20 => 0xBE740021#32
  | 21 => 0x3FAB4258#32
  | 22 => 0xBEC6FE24#32
  | 23 => 0xBE95C03C#32
  | 24 => 0x3F328271#32
  | 25 => 0x3FA6A2C6#32
  | 26 => 0x402F3487#32
  | 27 => 0x4034B7E1#32
  | 28 => 0xBC3BB0BB#32
  | 29 => 0x3FB26F20#32
  | 30 => 0x3EF82151#32
  | 31 => 0x403D8E01#32
  | 32 => 0x3F0B6280#32
  | 33 => 0x3F9B7FF0#32
  | 34 => 0xBF0DE3AA#32
  | 35 => 0xBF806453#32
  | 36 => 0x3E28D489#32
  | 37 => 0x3DCAA1A3#32
  | 38 => 0xBEF76D66#32
  | 39 => 0xBF82EA9B#32
  | 40 => 0xBEC5C8DE#32
  | 41 => 0x3E76CCDB#32
  | 42 => 0x3F893BFC#32
  | 43 => 0x3F7400C2#32
  | 44 => 0x3F251238#32
  | 45 => 0x3EC2FFE5#32
  | 46 => 0xBDF1651E#32
  | 47 => 0x3D26E957#32
  | 48 => 0x3F22D21E#32
  | 49 => 0xBF6BC886#32
  | 50 => 0x3F7F38FE#32
  | 51 => 0x403A4042#32
  | 52 => 0x3DA66C46#32
  | 53 => 0x3F01C33D#32
  | 54 => 0x3F0DC6B3#32
  | 55 => 0xBEDF477C#32
  | 56 => 0x3FCC6CDA#32
  | 57 => 0x3E4350C7#32
  | 58 => 0x4082B425#32
  | 59 => 0x3F8BCB16#32
  | 60 => 0x3EE9DF10#32
  | 61 => 0xBD37CE44#32
  | 62 => 0x3EADF567#32
  | 63 => 0x3FEBFC4B#32
  | 64 => 0x408B5BCE#32
  | 65 => 0x404A51BA#32
  | 66 => 0x3E3E2C48#32
  | 67 => 0x3F6804A8#32
  | 68 => 0x3F619A8B#32
  | 69 => 0xBF90D7AA#32
  | 70 => 0x3DC71AB8#32
  | 71 => 0x3E2D25A3#32
  | 72 => 0x40614978#32
  | 73 => 0xBF4EA220#32
  | 74 => 0xBF83BE16#32
  | 75 => 0x3F1CF64B#32
  | 76 => 0x3FE0C0E0#32
  | 77 => 0x3D48106F#32
  | 78 => 0x3F52A393#32
  | 79 => 0x4087A432#32
  | 80 => 0x3FB918EE#32
  | 81 => 0x3EC99402#32
  | 82 => 0xBF848E88#32
  | 83 => 0xBE5610B9#32
  | 84 => 0x3F93A3B6#32
  | 85 => 0xBEB74C1D#32
  | 86 => 0x3FC70F85#32
  | 87 => 0x3EF67812#32
  | 88 => 0x4017A804#32
  | 89 => 0x3F85E110#32
  | 90 => 0xBE0FC889#32
  | 91 => 0xBED67639#32
  | 92 => 0xBF58AD27#32
  | 93 => 0x3E9260C1#32
  | 94 => 0x3F46104B#32
  | 95 => 0xBD81E3D3#32
  | 96 => 0xBF6BA10D#32
  | 97 => 0x3E93BA67#32
  | 98 => 0x3FBD37CF#32
  | 99 => 0xBE34178D#32
  | 100 => 0x3EA8174B#32
  | 101 => 0xBF6E0686#32
  | 102 => 0x3F0346E7#32
  | 103 => 0xBD2A5D69#32
  | 104 => 0x3F0150A6#32
  | 105 => 0xBF77CC79#32
  | 106 => 0xBF499C84#32
  | 107 => 0x3F92563A#32
  | 108 => 0xBEBF38D7#32
  | 109 => 0x3FC8259B#32
  | 110 => 0xBFA86C76#32
  | 111 => 0x3F2BD1E9#32
  | 112 => 0x3DA5AF1A#32
  | 113 => 0xBE8E407A#32
  | 114 => 0x3FAD8CAD#32
  | 115 => 0xBF837774#32
  | 116 => 0x3F2AE6A8#32
  | 117 => 0x3E231A4A#32
  | 118 => 0xBE9F8842#32
  | 119 => 0xBF9354DE#32
  | 120 => 0x4096A347#32
  | 121 => 0xBF5F3293#32
  | 122 => 0x3FE36D35#32
  | 123 => 0x404E19B6#32
  | 124 => 0x3F8F4278#32
  | 125 => 0x3F37FCC9#32
  | 126 => 0x3FA3DC79#32
  | 127 => 0xBF18E1E7#32
  | _ => 0#32

noncomputable abbrev lit0t0_441 (i : Nat) : BitVec 32 := match i % 128 with
  | 0 => 0x3FBAB30E#32
  | 1 => 0x40488170#32
  | 2 => 0xBEE56436#32
  | 3 => 0xBF73EB56#32
  | 4 => 0x3D6D6509#32
  | 5 => 0x401E944B#32
  | 6 => 0x408666C4#32
  | 7 => 0x3F9728F9#32
  | 8 => 0xBF2679C0#32
  | 9 => 0x404D2DF0#32
  | 10 => 0xBF972EE1#32
  | 11 => 0x3FA2FF86#32
  | 12 => 0xBFC35371#32
  | 13 => 0x3E969AF5#32
  | 14 => 0x40013173#32
  | 15 => 0x3F97CFE7#32
  | 16 => 0x3DA05FAD#32
  | 17 => 0x4010A186#32
  | 18 => 0xBE341007#32
  | 19 => 0x4004A062#32
  | 20 => 0x3F080CCD#32
  | 21 => 0xBD877847#32
  | 22 => 0x3EDE86B0#32
  | 23 => 0x4004E1E1#32
  | 24 => 0x3E1B04F4#32
  | 25 => 0x3FD69E3C#32
  | 26 => 0xBF7092E0#32
  | 27 => 0xBF69C00A#32
  | 28 => 0x3F1F82D2#32
  | 29 => 0xBF894CB3#32
  | 30 => 0x3FBB1EAB#32
  | 31 => 0x3F6BEA28#32
  | 32 => 0x402C1FC1#32
  | 33 => 0x3DCE68E9#32
  | 34 => 0x3E85FB75#32
  | 35 => 0x3EA08865#32
  | 36 => 0x3FAA465E#32
  | 37 => 0xBF881016#32
  | 38 => 0x3F2BC7FA#32
  | 39 => 0xBEA1EA4C#32
  | 40 => 0x3F565976#32
  | 41 => 0x3F88FE86#32
  | 42 => 0xBF1235F2#32
  | 43 => 0x3F1CC6C7#32
  | 44 => 0x3EBAAF04#32
  | 45 => 0x3F4B84F8#32
  | 46 => 0x3FF07172#32
  | 47 => 0x3EB926B1#32
  | 48 => 0xBF686FD1#32
  | 49 => 0x3DC016B0#32
  | 50 => 0xBF02E71C#32
  | 51 => 0xBF3CA955#32
  | 52 => 0xBE89CB0F#32
  | 53 => 0x3EB9AE71#32
  | 54 => 0x3F2EFEBB#32
  | 55 => 0x3F7A2D3C#32
  | 56 => 0xBF1E2B2C#32
  | 57 => 0xBF0A1AC7#32
  | 58 => 0x40165DEC#32
  | 59 => 0x3FD62730#32
  | 60 => 0x3DE2019A#32
  | 61 => 0x40161D12#32
  | 62 => 0x3E5EBB39#32
  | 63 => 0x3F8B177C#32
  | 64 => 0xBF20E4BF#32
  | 65 => 0xBF35D159#32
  | 66 => 0xBF6B5CF4#32
  | 67 => 0x3E111E80#32
  | 68 => 0xBEF5C223#32
  | 69 => 0x401C78B8#32
  | 70 => 0x4026186E#32
  | 71 => 0x3DB57675#32
  | 72 => 0x3FE6C8D8#32
  | 73 => 0xBEE3A70E#32
  | 74 => 0xBF8CFCE3#32
  | 75 => 0x3FBB31F8#32
  | 76 => 0x3FC7DF76#32
  | 77 => 0x3F563F4E#32
  | 78 => 0xBF25E9C2#32
  | 79 => 0x3FBADBEA#32
  | 80 => 0xBEFD1F5B#32
  | 81 => 0x40C10CC8#32
  | 82 => 0x3EC77328#32
  | 83 => 0x3FB41768#32
  | 84 => 0x402409BC#32
  | 85 => 0x3EA1428F#32
  | 86 => 0x3DC0A994#32
  | 87 => 0x3E2E8D12#32
  | 88 => 0x3FEFBC54#32
  | 89 => 0x3F2E1FCA#32
  | 90 => 0xBE8E25E5#32
  | 91 => 0x401076D2#32
  | 92 => 0x3FBA233E#32
  | 93 => 0xBFA5FFF5#32
  | 94 => 0xBE553785#32
  | 95 => 0x3F2B552D#32
  | 96 => 0x3ED366B9#32
  | 97 => 0x402764AC#32
  | 98 => 0xBFC31B47#32
  | 99 => 0x3ED52937#32
  | 100 => 0x4017FDF1#32
  | 101 => 0x3FE01D46#32
  | 102 => 0xBE95C952#32
  | 103 => 0xBF363023#32
  | 104 => 0xBF08F86E#32
  | 105 => 0x40727251#32
  | 106 => 0xBEAC6C71#32
  | 107 => 0xBF015973#32
  | 108 => 0x3F1598FC#32
  | 109 => 0x3F55A5CD#32
  | 110 => 0x3FED43AF#32
  | 111 => 0x3E4C546B#32
  | 112 => 0x4083FDBF#32
  | 113 => 0x3F1152DA#32
  | 114 => 0x41003D03#32
  | 115 => 0x3E2B70D1#32
  | 116 => 0x3E963486#32
  | 117 => 0x3DE9AF47#32
  | 118 => 0xBD46AB64#32
  | 119 => 0x3F497FB8#32
  | 120 => 0x3F262507#32
  | 121 => 0x3FD01044#32
  | 122 => 0x3FF20952#32
  | 123 => 0xBF744058#32
  | 124 => 0xBE85F240#32
  | 125 => 0xBF74DF5D#32
  | 126 => 0x3F90C3B4#32
  | 127 => 0x3EC92C06#32
  | _ => 0#32

noncomputable abbrev lit0t0_442 (i : Nat) : BitVec 32 := match i % 128 with
  | 0 => 0x3E808EA2#32
  | 1 => 0x40520D03#32
  | 2 => 0x3FFD6B3B#32
  | 3 => 0xBF4A1448#32
  | 4 => 0x3FD91A85#32
  | 5 => 0x3EF0CCCC#32
  | 6 => 0xBF1BAD6E#32
  | 7 => 0x3FB43E2E#32
  | 8 => 0x3ED0BB05#32
  | 9 => 0x3FE2C2CE#32
  | 10 => 0x40170E32#32
  | 11 => 0xBF16667C#32
  | 12 => 0x4001674B#32
  | 13 => 0x3EB51D6F#32
  | 14 => 0xBD011359#32
  | 15 => 0xBF9A8D2E#32
  | 16 => 0xBFB5900E#32
  | 17 => 0x3FF7E3C8#32
  | 18 => 0xBF88BF3E#32
  | 19 => 0x3FB872B3#32
  | 20 => 0x3F39E654#32
  | 21 => 0x3FD21BA2#32
  | 22 => 0xBEEA7D44#32
  | 23 => 0xBFBCD15B#32
  | 24 => 0x3F8A9A62#32
  | 25 => 0x400B3F35#32
  | 26 => 0xBFA40B62#32
  | 27 => 0xBFA08A6A#32
  | 28 => 0x3DD9306F#32
  | 29 => 0x3EE661AA#32
  | 30 => 0x3E0A90B6#32
  | 31 => 0xBFAF3497#32
  | 32 => 0x3F6B0B55#32
  | 33 => 0xBF189B2E#32
  | 34 => 0xBEF1468D#32
  | 35 => 0x4012E56E#32
  | 36 => 0x3D0BFE24#32
  | 37 => 0xBF34EE3C#32
  | 38 => 0x3F391FB3#32
  | 39 => 0x3FF8A5A9#32
  | 40 => 0x3F55E35A#32
  | 41 => 0x4028E398#32
  | 42 => 0xBF5542D3#32
  | 43 => 0xBF7D6FF6#32
  | 44 => 0xBFA6C76E#32
  | 45 => 0x3FA43763#32
  | 46 => 0x3FF2CEA9#32
  | 47 => 0x4036CB95#32
  | 48 => 0x3FCE0470#32
  | 49 => 0x3F2FE834#32
  | 50 => 0x4020DBB2#32
  | 51 => 0x3EEB5EC0#32
  | 52 => 0xBDDEFD86#32
  | 53 => 0x3F03BC2C#32
  | 54 => 0xBE1FF239#32
  | 55 => 0x3F6105C2#32
  | 56 => 0x407B0744#32
  | 57 => 0x3F489078#32
  | 58 => 0xBF8190E6#32
  | 59 => 0x3EF9D51F#32
  | 60 => 0xBF5005D8#32
  | 61 => 0x40408215#32
  | 62 => 0x4022CE4D#32
  | 63 => 0x3FFA9644#32
  | 64 => 0xBE82B621#32
  | 65 => 0x3D9C0480#32
  | 66 => 0x4035C890#32
  | 67 => 0xBF5A211E#32
  | 68 => 0xBE6B2E7F#32
  | 69 => 0x3FF529F9#32
  | 70 => 0x3FF5957F#32
  | 71 => 0xBD54E155#32
  | 72 => 0xBEDCE9CA#32
  | 73 => 0x40028A7D#32
  | 74 => 0x3FEC2BC7#32
  | 75 => 0xBE8E05A2#32
  | 76 => 0xBF42F8BD#32
  | 77 => 0x3F636CB7#32
  | 78 => 0xBF4342BB#32
  | 79 => 0xBF10193A#32
  | 80 => 0x3F34EFA3#32
  | 81 => 0xBEB87459#32
  | 82 => 0xBEDF7A65#32
  | 83 => 0xBF5836B3#32
  | 84 => 0x3D5B27BE#32
  | 85 => 0x3E88A7BE#32
  | 86 => 0x3E1FCF17#32
  | 87 => 0x3FCCE48C#32
  | 88 => 0x3F8049E7#32
  | 89 => 0xBF83C3F0#32
  | 90 => 0xBF50E9F5#32
  | 91 => 0x3ECB560A#32
  | 92 => 0x3EF2868D#32
  | 93 => 0xBF34B8D2#32
  | 94 => 0x3F74A3B2#32
  | 95 => 0xBFBC774B#32
  | 96 => 0x4014128D#32
  | 97 => 0xBFCEC388#32
  | 98 => 0xBF9D7A2C#32
  | 99 => 0x3F318FE2#32
  | 100 => 0xBE845959#32
  | 101 => 0xBFA0BE8F#32
  | 102 => 0xBE5E020A#32
  | 103 => 0x3E7EE33E#32
  | 104 => 0x3FC10818#32
  | 105 => 0xBF95C32C#32
  | 106 => 0x402A6811#32
  | 107 => 0x402B0ECB#32
  | 108 => 0x3CA8AF52#32
  | 109 => 0xBF278990#32
  | 110 => 0x3E515782#32
  | 111 => 0x40339F46#32
  | 112 => 0x403803BB#32
  | 113 => 0xBF3F837B#32
  | 114 => 0xBE818CB9#32
  | 115 => 0xBF581A64#32
  | 116 => 0x3FAB7607#32
  | 117 => 0xBC64A723#32
  | 118 => 0xBF06C778#32
  | 119 => 0x3EAC4D6A#32
  | 120 => 0xBF98CB70#32
  | 121 => 0x4007C0C6#32
  | 122 => 0x3F207CCD#32
  | 123 => 0x3F01FE8B#32
  | 124 => 0x3FC1D3C0#32
  | 125 => 0x3F586146#32
  | 126 => 0xBF74C3FB#32
  | 127 => 0x401909BC#32
  | _ => 0#32

noncomputable abbrev lit0t0_443 (i : Nat) : BitVec 32 := match i % 128 with
  | 0 => 0x3D20B90A#32
  | 1 => 0x3EA73ADB#32
  | 2 => 0x3F203E30#32
  | 3 => 0x3F2A735E#32
  | 4 => 0x3D07F4FC#32
  | 5 => 0x3F2DA9B7#32
  | 6 => 0x403BC8E3#32
  | 7 => 0x4001709C#32
  | 8 => 0x402935C5#32
  | 9 => 0x3F9CB486#32
  | 10 => 0x3F322585#32
  | 11 => 0x4014664F#32
  | 12 => 0x40B76CDB#32
  | 13 => 0xBF2F01BB#32
  | 14 => 0x3FB89507#32
  | 15 => 0x400FB386#32
  | 16 => 0xBFB01FB6#32
  | 17 => 0xBF5B83B2#32
  | 18 => 0xBF5216C4#32
  | 19 => 0xBED2F88D#32
  | 20 => 0x3F3EA0EE#32
  | 21 => 0xBFF4DD3B#32
  | 22 => 0xBF5279FA#32
  | 23 => 0x3E8E3B78#32
  | 24 => 0xBE843ADE#32
  | 25 => 0x3E4A9E0B#32
  | 26 => 0x4073EEDC#32
  | 27 => 0x407034AA#32
  | 28 => 0xBE4D7086#32
  | 29 => 0x3F4298C5#32
  | 30 => 0xBE194315#32
  | 31 => 0x3F3EB2F2#32
  | 32 => 0xBEC2D719#32
  | 33 => 0x3F9AC4C1#32
  | 34 => 0x402E3B6E#32
  | 35 => 0x3F5573E3#32
  | 36 => 0x3D64E8C6#32
  | 37 => 0x3CD0FE96#32
  | 38 => 0x4018182E#32
  | 39 => 0x40515611#32
  | 40 => 0xBD8C045C#32
  | 41 => 0x3FCD1A80#32
  | 42 => 0x401AC81B#32
  | 43 => 0x3FFBF3D1#32
  | 44 => 0xBDD68F39#32
  | 45 => 0x3E334FF5#32
  | 46 => 0xBF8586E1#32
  | 47 => 0xBE830F42#32
  | 48 => 0xBF9E62A8#32
  | 49 => 0xBF41B4BB#32
  | 50 => 0x3EF1137A#32
  | 51 => 0x3F204C7B#32
  | 52 => 0x4019A606#32
  | 53 => 0x3FCCA214#32
  | 54 => 0x40671612#32
  | 55 => 0xBF7CF800#32
  | 56 => 0xBD5C0B6C#32
  | 57 => 0x3F728B2C#32
  | 58 => 0x3EA84E22#32
  | 59 => 0x3F547904#32
  | 60 => 0x3F6383D1#32
  | 61 => 0xBEA1F9E0#32
  | 62 => 0x40B78B26#32
  | 63 => 0xBEA0C9E4#32
  | 64 => 0x3F1F3859#32
  | 65 => 0x3F23FC65#32
  | 66 => 0xBFA87B54#32
  | 67 => 0x3F52806C#32
  | 68 => 0x3F13E873#32
  | 69 => 0xBF9DC75C#32
  | 70 => 0x3F1171CE#32
  | 71 => 0xBF05DA34#32
  | 72 => 0x4014942F#32
  | 73 => 0x3FA7FF37#32
  | 74 => 0xBE9C35DB#32
  | 75 => 0x402E3B45#32
  | 76 => 0xBE63EFA1#32
  | 77 => 0xBE430F2D#32
  | 78 => 0xBEACB909#32
  | 79 => 0xBF05D1D8#32
  | 80 => 0x3F61A919#32
  | 81 => 0x3F1087AB#32
  | 82 => 0x3FD2DC8E#32
  | 83 => 0xBF47B695#32
  | 84 => 0x3D40B2DA#32
  | 85 => 0xBF351747#32
  | 86 => 0x3F842EB4#32
  | 87 => 0x3F225B14#32
  | 88 => 0xBF8ACEA2#32
  | 89 => 0xBE334B3D#32
  | 90 => 0x3E557886#32
  | 91 => 0x3E4DF9B3#32
  | 92 => 0xBC674139#32
  | 93 => 0xBF9F2990#32
  | 94 => 0x3FB7105E#32
  | 95 => 0x3E264D94#32
  | 96 => 0xBE7721AE#32
  | 97 => 0x3F1973AA#32
  | 98 => 0xBEF5D972#32
  | 99 => 0xBE086C79#32
  | 100 => 0x3F8BE22F#32
  | 101 => 0x3F1E8CB7#32
  | 102 => 0x3EDD9FEF#32
  | 103 => 0x3FD36418#32
  | 104 => 0x3FE35336#32
  | 105 => 0x3E97E9C0#32
  | 106 => 0x3FDFB1B7#32
  | 107 => 0x3F2BB3B1#32
  | 108 => 0xBD518798#32
  | 109 => 0xBE9A0FF8#32
  | 110 => 0x402C4615#32
  | 111 => 0xBF7DBFF0#32
  | 112 => 0x3EA2C1C8#32
  | 113 => 0xBF62A76F#32
  | 114 => 0x4026DDE9#32
  | 115 => 0x3EF68FAA#32
  | 116 => 0x3F8E554A#32
  | 117 => 0x402AD387#32
  | 118 => 0x3F1B3807#32
  | 119 => 0x4001EE4B#32
  | 120 => 0x3F42E400#32
  | 121 => 0x3C5D1EC6#32
  | 122 => 0xBF035653#32
  | 123 => 0x3C524F13#32
  | 124 => 0x3FE5C9E9#32
  | 125 => 0xBF5BBA27#32
  | 126 => 0x3D98DFB2#32
  | 127 => 0xBF6CEA72#32
  | _ => 0#32

noncomputable abbrev lit0t0_444 (i : Nat) : BitVec 32 := match i % 128 with
  | 0 => 0x3FBDB8E5#32
  | 1 => 0xBFA00112#32
  | 2 => 0xBDDFB9F0#32
  | 3 => 0x3E5EBB25#32
  | 4 => 0x3F847F9B#32
  | 5 => 0x3F89FF21#32
  | 6 => 0x4050BBA0#32
  | 7 => 0xBECA831A#32
  | 8 => 0x3EB3F587#32
  | 9 => 0x3F4C52CF#32
  | 10 => 0x3FF79977#32
  | 11 => 0x3F8DFB47#32
  | 12 => 0x3B61B764#32
  | 13 => 0x3F983F48#32
  | 14 => 0x3EDB38C3#32
  | 15 => 0xBFA411CA#32
  | 16 => 0xBE366AE5#32
  | 17 => 0xBF2A58A2#32
  | 18 => 0xBE489886#32
  | 19 => 0x3F97472E#32
  | 20 => 0xBF47BB69#32
  | 21 => 0x3F6BBB31#32
  | 22 => 0x3F06F990#32
  | 23 => 0x3FF63242#32
  | 24 => 0xBF01C17B#32
  | 25 => 0x40AA0086#32
  | 26 => 0xBF35B94E#32
  | 27 => 0x3F084ADA#32
  | 28 => 0x3FCF903A#32
  | 29 => 0x3F5BE3EA#32
  | 30 => 0x3FB6E417#32
  | 31 => 0x3EE22CF7#32
  | 32 => 0x40099255#32
  | 33 => 0x3D959B72#32
  | 34 => 0x3E9F808B#32
  | 35 => 0x401446ED#32
  | 36 => 0x3F1E56E6#32
  | 37 => 0xBE7C945D#32
  | 38 => 0x4082A058#32
  | 39 => 0x3DFCEAC2#32
  | 40 => 0x3EA16BCA#32
  | 41 => 0x4008C822#32
  | 42 => 0x3DD5FECD#32
  | 43 => 0x40243101#32
  | 44 => 0xBF09F648#32
  | 45 => 0x3D90D4B3#32
  | 46 => 0x3F159454#32
  | 47 => 0xBDD20405#32
  | 48 => 0x3DD8AC6B#32
  | 49 => 0x3E740411#32
  | 50 => 0x3F1D6ED0#32
  | 51 => 0x3FAC69BF#32
  | 52 => 0x3E912279#32
  | 53 => 0x3F480349#32
  | 54 => 0x3F5D5BA8#32
  | 55 => 0xBFCC4B0D#32
  | 56 => 0x403A3F94#32
  | 57 => 0x3F7C61F8#32
  | 58 => 0xBF0DDF64#32
  | 59 => 0xBE5F16D7#32
  | 60 => 0xBE32973C#32
  | 61 => 0xBF1625F4#32
  | 62 => 0xBF150B71#32
  | 63 => 0x3FC125E0#32
  | 64 => 0x3FD777AC#32
  | 65 => 0xBECF4859#32
  | 66 => 0xBF22E3E2#32
  | 67 => 0x3EA80512#32
  | 68 => 0xBF707B0C#32
  | 69 => 0x3F71EE08#32
  | 70 => 0x3F9F3B85#32
  | 71 => 0x3EAD676B#32
  | 72 => 0x40180B2C#32
  | 73 => 0x3F9F75EB#32
  | 74 => 0x3E8B13AB#32
  | 75 => 0xBE3F5643#32
  | 76 => 0x3FEF7854#32
  | 77 => 0x3F9704E8#32
  | 78 => 0xBF0DB706#32
  | 79 => 0x3EF4641F#32
  | 80 => 0x3FD5164C#32
  | 81 => 0xBE8381D0#32
  | 82 => 0x3E85111A#32
  | 83 => 0x402609C6#32
  | 84 => 0xBF174D3E#32
  | 85 => 0xBEF23734#32
  | 86 => 0x3C760C9D#32
  | 87 => 0x3F1A479B#32
  | 88 => 0x3F07474D#32
  | 89 => 0xBF2FFFB0#32
  | 90 => 0xBEFDF3D8#32
  | 91 => 0x3FF4F077#32
  | 92 => 0xBEA308A6#32
  | 93 => 0x400D0F57#32
  | 94 => 0x3EE35CC0#32
  | 95 => 0xBD190A61#32
  | 96 => 0x3FAFFF92#32
  | 97 => 0xBF88131D#32
  | 98 => 0x3F1533B4#32
  | 99 => 0x3FF645CA#32
  | 100 => 0x403EFB7E#32
  | 101 => 0x3F919770#32
  | 102 => 0x3DBCBCDF#32
  | 103 => 0x3F290A60#32
  | 104 => 0x3E98CBD0#32
  | 105 => 0x3F821CA8#32
  | 106 => 0xBEFE0908#32
  | 107 => 0xBEF5C726#32
  | 108 => 0xBE953439#32
  | 109 => 0xBEED3173#32
  | 110 => 0xBE1CF561#32
  | 111 => 0x3F058082#32
  | 112 => 0x3F92A84E#32
  | 113 => 0x404AD9A2#32
  | 114 => 0xBF0E642F#32
  | 115 => 0x3EE508E4#32
  | 116 => 0x400FFEAA#32
  | 117 => 0xBF646050#32
  | 118 => 0x40044F83#32
  | 119 => 0x3FF72A99#32
  | 120 => 0xBEF9B416#32
  | 121 => 0x3EE8B3EB#32
  | 122 => 0xBEA42A3F#32
  | 123 => 0xBD218D53#32
  | 124 => 0x3E862696#32
  | 125 => 0x3F53362F#32
  | 126 => 0x3F03B64C#32
  | 127 => 0x3DC9FE45#32
  | _ => 0#32

noncomputable abbrev lit0t0_445 (i : Nat) : BitVec 32 := match i % 128 with
  | 0 => 0xBF9C31E8#32
  | 1 => 0x3EDB13DE#32
  | 2 => 0x3F8ABE05#32
  | 3 => 0x3FD89996#32
  | 4 => 0xBE9C44CB#32
  | 5 => 0xBF92E52B#32
  | 6 => 0xBF0D6297#32
  | 7 => 0x3DD69C6E#32
  | 8 => 0x3F39EA79#32
  | 9 => 0xBF1AAEEF#32
  | 10 => 0x3ED7B745#32
  | 11 => 0xBEE36F57#32
  | 12 => 0x3F30FC43#32
  | 13 => 0x3FF81096#32
  | 14 => 0x3F77A288#32
  | 15 => 0x40010B40#32
  | 16 => 0x3EB630E8#32
  | 17 => 0x405C8146#32
  | 18 => 0x3F8A802C#32
  | 19 => 0x3F249451#32
  | 20 => 0x3ED0B7A4#32
  | 21 => 0xBDCE02FA#32
  | 22 => 0x4018E36C#32
  | 23 => 0xBE9DA94F#32
  | 24 => 0xBE823578#32
  | 25 => 0xBD2701AF#32
  | 26 => 0xBE771FAB#32
  | 27 => 0xBE6E7F2F#32
  | 28 => 0xBE44AB3A#32
  | 29 => 0x3F8463F9#32
  | 30 => 0xBB53A26D#32
  | 31 => 0x3F8CF354#32
  | 32 => 0x3F8A546B#32
  | 33 => 0x4034C7DF#32
  | 34 => 0x400F3183#32
  | 35 => 0x3CBF3A34#32
  | 36 => 0xBF842706#32
  | 37 => 0x3F66B8A6#32
  | 38 => 0x3F0DCC23#32
  | 39 => 0xBE85DE02#32
  | 40 => 0x3F64F99E#32
  | 41 => 0x3C6C281E#32
  | 42 => 0x3E1501A1#32
  | 43 => 0x3F60BD80#32
  | 44 => 0x400EB1CB#32
  | 45 => 0xBF0882AF#32
  | 46 => 0x3FDB5CB8#32
  | 47 => 0x3E158137#32
  | 48 => 0xBFA40F7B#32
  | 49 => 0x40130931#32
  | 50 => 0x3EAAEEA1#32
  | 51 => 0xBDC683C3#32
  | 52 => 0x3F4E6B64#32
  | 53 => 0xBEA8CE02#32
  | 54 => 0x3F6A185C#32
  | 55 => 0x3E1BE966#32
  | 56 => 0xBF482BD6#32
  | 57 => 0x3F2C449B#32
  | 58 => 0x3E89684B#32
  | 59 => 0x3F7AB3E1#32
  | 60 => 0xBF23453F#32
  | 61 => 0x3EA8C897#32
  | 62 => 0x3E596EE6#32
  | 63 => 0x3FCDD1CC#32
  | 64 => 0x3DF8FC09#32
  | 65 => 0x4000CCFF#32
  | 66 => 0x3FD86A12#32
  | 67 => 0xBF72368B#32
  | 68 => 0xBF3625D1#32
  | 69 => 0xBE1899CB#32
  | 70 => 0x3FB4ADBA#32
  | 71 => 0xBED986BD#32
  | 72 => 0x3EEDA564#32
  | 73 => 0xBF8BA8A9#32
  | 74 => 0x3FCEC9FF#32
  | 75 => 0x3EFBAB53#32
  | 76 => 0x3FC6CEDD#32
  | 77 => 0xBF0EEA89#32
  | 78 => 0x3F38517E#32
  | 79 => 0x3F2AAC70#32
  | 80 => 0xBEF51176#32
  | 81 => 0x3F384F89#32
  | 82 => 0x4028D9E0#32
  | 83 => 0x3F5F9E5F#32
  | 84 => 0x3F9BB692#32
  | 85 => 0x3F27BE9C#32
  | 86 => 0xBF662E33#32
  | 87 => 0x4022288F#32
  | 88 => 0xBF95611B#32
  | 89 => 0x3FD5C994#32
  | 90 => 0x3F2173F8#32
  | 91 => 0x403407B7#32
  | 92 => 0xBE88334F#32
  | 93 => 0x3E7EFC93#32
  | 94 => 0xBF11D6BA#32
  | 95 => 0x3FDC826F#32
  | 96 => 0x4007AE54#32
  | 97 => 0x3F6C955E#32
  | 98 => 0x3DF2664F#32
  | 99 => 0xBDE43447#32
  | 100 => 0x3ECE8C1C#32
  | 101 => 0x3F68DD60#32
  | 102 => 0xBE8E9A94#32
  | 103 => 0x3EE7F697#32
  | 104 => 0x3F949ADA#32
  | 105 => 0x3F19A97C#32
  | 106 => 0x3E96C138#32
  | 107 => 0x40CAAC37#32
  | 108 => 0xBEFAD0E0#32
  | 109 => 0x401E8C12#32
  | 110 => 0xBE07A5A8#32
  | 111 => 0xBF1E8743#32
  | 112 => 0xBF22A487#32
  | 113 => 0x403302F4#32
  | 114 => 0x3F996088#32
  | 115 => 0xBEC9F538#32
  | 116 => 0xBF3A77CF#32
  | 117 => 0x3F8F5DDB#32
  | 118 => 0x3F8D6F20#32
  | 119 => 0xBFB53226#32
  | 120 => 0xBF637FCC#32
  | 121 => 0x3F942339#32
  | 122 => 0x3FE1766F#32
  | 123 => 0xBEAD9AFF#32
  | 124 => 0x3F38FEEE#32
  | 125 => 0xBF32F5A0#32
  | 126 => 0x3F80D270#32
  | 127 => 0x3F711373#32
  | _ => 0#32

noncomputable abbrev lit0t0_446 (i : Nat) : BitVec 32 := match i % 128 with
  | 0 => 0x3EB4C0EC#32
  | 1 => 0x3EEF90B4#32
  | 2 => 0xBEA957C0#32
  | 3 => 0xBF4FFD31#32
  | 4 => 0xBE0DD3C9#32
  | 5 => 0xBEED1B00#32
  | 6 => 0x3F2B719F#32
  | 7 => 0xBEA2CB2B#32
  | 8 => 0x3FE6E56B#32
  | 9 => 0x4018B79F#32
  | 10 => 0xBF2A94F3#32
  | 11 => 0xBF83D3D0#32
  | 12 => 0xBF12311F#32
  | 13 => 0x3F9810B5#32
  | 14 => 0xBF374EC0#32
  | 15 => 0xBE8CE2FF#32
  | 16 => 0x40178763#32
  | 17 => 0x3F869B7C#32
  | 18 => 0x3FCC012F#32
  | 19 => 0xBE90F1E4#32
  | 20 => 0x3DDD1E77#32
  | 21 => 0x4039AE42#32
  | 22 => 0x3F249229#32
  | 23 => 0x3E19102C#32
  | 24 => 0xBF1E2418#32
  | 25 => 0x3F3C13E9#32
  | 26 => 0x400188F4#32
  | 27 => 0xBF088BAE#32
  | 28 => 0x3E047E07#32
  | 29 => 0xBF264882#32
  | 30 => 0xBE972F6C#32
  | 31 => 0x409B6765#32
  | 32 => 0xBF348078#32
  | 33 => 0x3F8177B4#32
  | 34 => 0x3D9FD41E#32
  | 35 => 0x3EAD3AC1#32
  | 36 => 0x3FB73B76#32
  | 37 => 0x401590EE#32
  | 38 => 0xBFA4F629#32
  | 39 => 0x3EE8B572#32
  | 40 => 0x3F109086#32
  | 41 => 0xBF47D136#32
  | 42 => 0x3F72649C#32
  | 43 => 0xBE6F7E94#32
  | 44 => 0xBF10DAC7#32
  | 45 => 0x3F4255EF#32
  | 46 => 0x3ED6DF9D#32
  | 47 => 0x4012F80E#32
  | 48 => 0xBEA4C4C0#32
  | 49 => 0xBF9D0B36#32
  | 50 => 0x3D1F7A74#32
  | 51 => 0x40110F03#32
  | 52 => 0x3F4918F1#32
  | 53 => 0x3F3AB880#32
  | 54 => 0x3F7AFF19#32
  | 55 => 0x4076A458#32
  | 56 => 0x402BF963#32
  | 57 => 0x3F17FDFF#32
  | 58 => 0xBD5EB4F3#32
  | 59 => 0xBEB07605#32
  | 60 => 0x403591A9#32
  | 61 => 0xBF21FC9A#32
  | 62 => 0x3FB41592#32
  | 63 => 0x3F8F2B32#32
  | 64 => 0x4026E74B#32
  | 65 => 0xBEF7444C#32
  | 66 => 0xBF3D64EE#32
  | 67 => 0x3E622A97#32
  | 68 => 0x3FDEB2AA#32
  | 69 => 0x40DF09E8#32
  | 70 => 0xBE9E9E77#32
  | 71 => 0xBE4D3F94#32
  | 72 => 0xBE407228#32
  | 73 => 0x3F4A6F90#32
  | 74 => 0xBF326304#32
  | 75 => 0xBEA66E00#32
  | 76 => 0x404E1E65#32
  | 77 => 0x3F287EB3#32
  | 78 => 0xBF064DAB#32
  | 79 => 0xBE87A9C2#32
  | 80 => 0x400E2A06#32
  | 81 => 0xBF0181E9#32
  | 82 => 0xBF21AD28#32
  | 83 => 0x3F99B82A#32
  | 84 => 0x3FBD4080#32
  | 85 => 0x3E18FBFE#32
  | 86 => 0xBF53B9AF#32
  | 87 => 0x402A537C#32
  | 88 => 0x3EAE6AA8#32
  | 89 => 0xBEBF0BBF#32
  | 90 => 0xBED61328#32
  | 91 => 0x3FF1E37B#32
  | 92 => 0xBF030C30#32
  | 93 => 0xBFA2D15A#32
  | 94 => 0x3FC83A0F#32
  | 95 => 0x3F2A5784#32
  | 96 => 0x400084CF#32
  | 97 => 0x405E44CC#32
  | 98 => 0xBE7B37C5#32
  | 99 => 0x3F1CAEC4#32
  | 100 => 0x4036A91C#32
  | 101 => 0xBF2A609C#32
  | 102 => 0xBE824BB9#32
  | 103 => 0xBF47FD4D#32
  | 104 => 0x3E9E3E62#32
  | 105 => 0x3EB5A79A#32
  | 106 => 0xBF8556D5#32
  | 107 => 0xBE3E0447#32
  | 108 => 0xBDB2A695#32
  | 109 => 0xBD78D766#32
  | 110 => 0xBEED2897#32
  | 111 => 0x3EA98911#32
  | 112 => 0x3FD2F4C3#32
  | 113 => 0xBE377F5E#32
  | 114 => 0x3F0ECBD2#32
  | 115 => 0x41076AAE#32
  | 116 => 0x3F5D4CA6#32
  | 117 => 0xBF99C79D#32
  | 118 => 0x3D30F457#32
  | 119 => 0xBE0AF1AE#32
  | 120 => 0x3FC1C3FF#32
  | 121 => 0x3F5F028B#32
  | 122 => 0xBF899A86#32
  | 123 => 0x3DF7C554#32
  | 124 => 0x3F458E74#32
  | 125 => 0x3EF920F6#32
  | 126 => 0xBEDA6C49#32
  | 127 => 0x3F4D2580#32
  | _ => 0#32

noncomputable abbrev lit0t0_447 (i : Nat) : BitVec 32 := match i % 128 with
  | 0 => 0xBF0A4E9B#32
  | 1 => 0x3FA504EC#32
  | 2 => 0xBDE76A75#32
  | 3 => 0x3F6DD634#32
  | 4 => 0x4017EE42#32
  | 5 => 0xBFA1DE86#32
  | 6 => 0x3E2D052F#32
  | 7 => 0xBEC3B666#32
  | 8 => 0xBE4CC70C#32
  | 9 => 0xBF2A1B7E#32
  | 10 => 0x3DA0ECC2#32
  | 11 => 0x4012D6CB#32
  | 12 => 0xBD944305#32
  | 13 => 0xBF82E928#32
  | 14 => 0x3FB0DC74#32
  | 15 => 0x4036D7DC#32
  | 16 => 0x3F87096A#32
  | 17 => 0xBF97DDF6#32
  | 18 => 0x405DAFA6#32
  | 19 => 0x3E3D1B91#32
  | 20 => 0x3FB74861#32
  | 21 => 0x3EDF8BFC#32
  | 22 => 0xBFC98662#32
  | 23 => 0xBF7A2F5F#32
  | 24 => 0xBE353E61#32
  | 25 => 0x4032546E#32
  | 26 => 0x3F2016E3#32
  | 27 => 0x3E944F2D#32
  | 28 => 0x3F665108#32
  | 29 => 0xBF788E29#32
  | 30 => 0xBEE1CE2F#32
  | 31 => 0x40192F13#32
  | 32 => 0x3F885785#32
  | 33 => 0xBE949B66#32
  | 34 => 0x3FB86370#32
  | 35 => 0x3F7C559F#32
  | 36 => 0x3F3560D5#32
  | 37 => 0x3EF27766#32
  | 38 => 0xBF96D26A#32
  | 39 => 0xBF38FB3D#32
  | 40 => 0x3FAFCBB8#32
  | 41 => 0x3F1CEEF6#32
  | 42 => 0x4080A20B#32
  | 43 => 0x3F40F34F#32
  | 44 => 0xBED104D6#32
  | 45 => 0x3EC38CF1#32
  | 46 => 0x3F225A80#32
  | 47 => 0xBFAD74CF#32
  | 48 => 0xBEC6D1B2#32
  | 49 => 0x3F15EBA1#32
  | 50 => 0x3FB2D173#32
  | 51 => 0xBF46F42E#32
  | 52 => 0x3C6B16B7#32
  | 53 => 0x3F1FE212#32
  | 54 => 0x3FA8353C#32
  | 55 => 0x3CF6656C#32
  | 56 => 0x40410370#32
  | 57 => 0x3C347987#32
  | 58 => 0x40080B40#32
  | 59 => 0xBEC144F8#32
  | 60 => 0x3FFA6D26#32
  | 61 => 0x3E25BCB9#32
  | 62 => 0x3ED0B65C#32
  | 63 => 0x3F2A6D86#32
  | 64 => 0xBE5A5BDC#32
  | 65 => 0x3F94F429#32
  | 66 => 0xBD839BC2#32
  | 67 => 0x3F33E960#32
  | 68 => 0x3FF135C0#32
  | 69 => 0xBF26C174#32
  | 70 => 0x401925DE#32
  | 71 => 0x3EC9CA2E#32
  | 72 => 0xBEC02779#32
  | 73 => 0x3FF99C30#32
  | 74 => 0xBE821396#32
  | 75 => 0x3F5D034E#32
  | 76 => 0xBDF282E8#32
  | 77 => 0x3FF5A9B6#32
  | 78 => 0x3E4E8EF6#32
  | 79 => 0x3E8348B8#32
  | 80 => 0xBF01A91A#32
  | 81 => 0xBF494656#32
  | 82 => 0xBCEB2B88#32
  | 83 => 0xBECED168#32
  | 84 => 0xBFBACC40#32
  | 85 => 0x40326DB9#32
  | 86 => 0x4039841A#32
  | 87 => 0x3FB972BE#32
  | 88 => 0xBE9D5F23#32
  | 89 => 0x3EA0729A#32
  | 90 => 0x3F175FEB#32
  | 91 => 0xBE842722#32
  | 92 => 0xBEC2910C#32
  | 93 => 0x3EF892F4#32
  | 94 => 0x3F93E829#32
  | 95 => 0xBF750988#32
  | 96 => 0x3F1EEF9A#32
  | 97 => 0xBE20EF08#32
  | 98 => 0x3F8EA4D4#32
  | 99 => 0x3F28208F#32
  | 100 => 0xBE967DB6#32
  | 101 => 0x3F41AB6B#32
  | 102 => 0xBE3D1DFD#32
  | 103 => 0x3FA194A7#32
  | 104 => 0xBECCD9DA#32
  | 105 => 0x3FE7C747#32
  | 106 => 0xBC7E577D#32
  | 107 => 0xBF675C33#32
  | 108 => 0xBF0A65FD#32
  | 109 => 0xBECC5EF6#32
  | 110 => 0x4027106D#32
  | 111 => 0x3E9ECC53#32
  | 112 => 0xBEF89B1E#32
  | 113 => 0x3DB09869#32
  | 114 => 0x3FDA9628#32
  | 115 => 0xBFB70EC5#32
  | 116 => 0x403425DF#32
  | 117 => 0xBF280406#32
  | 118 => 0x3FD43043#32
  | 119 => 0x3F88F51E#32
  | 120 => 0xBE56ED04#32
  | 121 => 0x40A640BB#32
  | 122 => 0x3EA68F19#32
  | 123 => 0x3FC8E839#32
  | 124 => 0x403743B8#32
  | 125 => 0x3F39C934#32
  | 126 => 0x3EAE937F#32
  | 127 => 0x3F06C633#32
  | _ => 0#32

noncomputable abbrev lit0t0_448 (i : Nat) : BitVec 32 := match i % 128 with
  | 0 => 0x3E4D4C68#32
  | 1 => 0x3CD7B1DA#32
  | 2 => 0x3DE7DADB#32
  | 3 => 0xBF0FF0B4#32
  | 4 => 0x3F66C9E4#32
  | 5 => 0x3F2C9625#32
  | 6 => 0x3E50BA37#32
  | 7 => 0xBF19B93D#32
  | 8 => 0x4036D736#32
  | 9 => 0x4012FC5F#32
  | 10 => 0x3F83047E#32
  | 11 => 0xBEF97230#32
  | 12 => 0x3D158F74#32
  | 13 => 0x3F97C40C#32
  | 14 => 0x3F194FC5#32
  | 15 => 0x40232D91#32
  | 16 => 0x3FC434F0#32
  | 17 => 0xBE504C5E#32
  | 18 => 0x3EEA8B36#32
  | 19 => 0xBE817AE9#32
  | 20 => 0xBF95307F#32
  | 21 => 0x3F8F23AC#32
  | 22 => 0x3FD946B4#32
  | 23 => 0x3F7F7060#32
  | 24 => 0xBECE032A#32
  | 25 => 0x3E85681E#32
  | 26 => 0x3F5B5BEF#32
  | 27 => 0x40175114#32
  | 28 => 0x3EE49176#32
  | 29 => 0x4027CEA5#32
  | 30 => 0xBF84E9A6#32
  | 31 => 0x3F4D0EE5#32
  | 32 => 0xBD43FB1C#32
  | 33 => 0x400F5F4C#32
  | 34 => 0x3F81A3E6#32
  | 35 => 0x3FA7E3DF#32
  | 36 => 0x3EA9B7A5#32
  | 37 => 0xBE25CD03#32
  | 38 => 0xBF39B03F#32
  | 39 => 0x3F465248#32
  | 40 => 0xBF6CEFA9#32
  | 41 => 0x3E04C4AC#32
  | 42 => 0x403D17C1#32
  | 43 => 0x3EEEFB94#32
  | 44 => 0x3F6B2D08#32
  | 45 => 0x3FB33AEE#32
  | 46 => 0xBE011826#32
  | 47 => 0x3F29CF1A#32
  | 48 => 0xBD2948DE#32
  | 49 => 0xBF10F673#32
  | 50 => 0x3F976639#32
  | 51 => 0x40038306#32
  | 52 => 0x3E766575#32
  | 53 => 0xBB154871#32
  | 54 => 0x4027AB80#32
  | 55 => 0x3F6C68C3#32
  | 56 => 0x3F4E8E43#32
  | 57 => 0x3F670BB4#32
  | 58 => 0x3FA04EDA#32
  | 59 => 0x3FBEC53F#32
  | 60 => 0xBE9B0777#32
  | 61 => 0x3F2B0996#32
  | 62 => 0xBF15BE8B#32
  | 63 => 0x3FAB05E7#32
  | 64 => 0x3E1A29CF#32
  | 65 => 0x3F018294#32
  | 66 => 0x40843159#32
  | 67 => 0x3EA5626F#32
  | 68 => 0x3E4E7EAD#32
  | 69 => 0xBF0CB0FD#32
  | 70 => 0x3FC02DCC#32
  | 71 => 0xBF2EE2A8#32
  | 72 => 0xBE13AE4F#32
  | 73 => 0xBEF14A46#32
  | 74 => 0xBE083257#32
  | 75 => 0xBFB2FFFF#32
  | 76 => 0x3F22C907#32
  | 77 => 0xBE376216#32
  | 78 => 0x3F0AA01D#32
  | 79 => 0x3E7800E9#32
  | 80 => 0x3F11263B#32
  | 81 => 0xBF82FDDC#32
  | 82 => 0xBF1030EE#32
  | 83 => 0xBE990322#32
  | 84 => 0xBF1464E8#32
  | 85 => 0x3D4F2B22#32
  | 86 => 0x3FDDA7E1#32
  | 87 => 0x3F2B50CD#32
  | 88 => 0xBF118B2C#32
  | 89 => 0x4009E4B7#32
  | 90 => 0x401249A6#32
  | 91 => 0x3F8D352B#32
  | 92 => 0x40393E16#32
  | 93 => 0x3EF10350#32
  | 94 => 0x3EFDE7F9#32
  | 95 => 0xBDC4DA8A#32
  | 96 => 0xBE3AE744#32
  | 97 => 0x3EE3AEC8#32
  | 98 => 0xBF075C75#32
  | 99 => 0x3F16448A#32
  | 100 => 0x40490E47#32
  | 101 => 0x3E4772E5#32
  | 102 => 0x408F2A5C#32
  | 103 => 0x40272D5D#32
  | 104 => 0xBE09B470#32
  | 105 => 0x3ED5E432#32
  | 106 => 0x3F9B998D#32
  | 107 => 0xBF2BE40E#32
  | 108 => 0x3FD4FC8A#32
  | 109 => 0xBF286481#32
  | 110 => 0x401F1F60#32
  | 111 => 0x3FDED770#32
  | 112 => 0xBF01AFE2#32
  | 113 => 0x3F0584E4#32
  | 114 => 0x40472627#32
  | 115 => 0xBEB7718C#32
  | 116 => 0x3F1CDDD4#32
  | 117 => 0xBF681B7B#32
  | 118 => 0x3FB62BC8#32
  | 119 => 0x3F513D70#32
  | 120 => 0x3F626D8E#32
  | 121 => 0x3E6D2CA0#32
  | 122 => 0x3EB96B0A#32
  | 123 => 0xBF07212A#32
  | 124 => 0x408CC95A#32
  | 125 => 0x401339F2#32
  | 126 => 0x3FD936DA#32
  | 127 => 0x3E9626D6#32
  | _ => 0#32

noncomputable abbrev lit0t0_449 (i : Nat) : BitVec 32 := match i % 128 with
  | 0 => 0xBD98F937#32
  | 1 => 0xBCF6306C#32
  | 2 => 0xBF03D09C#32
  | 3 => 0x3F2E3E27#32
  | 4 => 0x3EE42566#32
  | 5 => 0x3F8DAC29#32
  | 6 => 0xBF5E05EA#32
  | 7 => 0x410006B1#32
  | 8 => 0x3EC8DB58#32
  | 9 => 0xBEB839B3#32
  | 10 => 0x3F0346D5#32
  | 11 => 0xBF8B9AC1#32
  | 12 => 0x3F532736#32
  | 13 => 0x3F58D8F6#32
  | 14 => 0x3F8EC6BE#32
  | 15 => 0xBE0A948A#32
  | 16 => 0xBD94D8C1#32
  | 17 => 0x400EEDF1#32
  | 18 => 0x3FD5493C#32
  | 19 => 0x3EB27381#32
  | 20 => 0xBF893691#32
  | 21 => 0xBF044EA4#32
  | 22 => 0xBF43B58A#32
  | 23 => 0xBFB4007C#32
  | 24 => 0x3EB147EF#32
  | 25 => 0x3E89D4FD#32
  | 26 => 0x3E606398#32
  | 27 => 0x3FD1C0E6#32
  | 28 => 0xBF00F4E9#32
  | 29 => 0x3DD9508A#32
  | 30 => 0x3F1180C6#32
  | 31 => 0x3E5DC3DA#32
  | 32 => 0x3EFB19C0#32
  | 33 => 0x3F2C9D72#32
  | 34 => 0x3FD38D27#32
  | 35 => 0x3F379C1B#32
  | 36 => 0xBE34DDD5#32
  | 37 => 0x3FD1470B#32
  | 38 => 0x4058DEB5#32
  | 39 => 0x40454360#32
  | 40 => 0x3F66E7E7#32
  | 41 => 0x3EC152FC#32
  | 42 => 0x408A8F3C#32
  | 43 => 0x3F127FFE#32
  | 44 => 0x3F748CEE#32
  | 45 => 0xBEE6E0BF#32
  | 46 => 0x3F5E2BAB#32
  | 47 => 0x3EBF8370#32
  | 48 => 0xBDDA7FC1#32
  | 49 => 0x3F57420C#32
  | 50 => 0x3F926B61#32
  | 51 => 0x3F6F4E40#32
  | 52 => 0x4017EA99#32
  | 53 => 0xBFBD9742#32
  | 54 => 0x3F8197FA#32
  | 55 => 0xBEA3332B#32
  | 56 => 0xC0020BA1#32
  | 57 => 0xBFA0F5FC#32
  | 58 => 0x40611FEB#32
  | 59 => 0x3F40A599#32
  | 60 => 0x3F7AE5DA#32
  | 61 => 0xBE85B9E5#32
  | 62 => 0x3FBE63C5#32
  | 63 => 0x3FEF106E#32
  | 64 => 0x3F80B488#32
  | 65 => 0xBF3C032B#32
  | 66 => 0x3EEB9926#32
  | 67 => 0xBE817EBC#32
  | 68 => 0x3FC73340#32
  | 69 => 0x3E0FE827#32
  | 70 => 0x3F8B4495#32
  | 71 => 0xBF4728EC#32
  | 72 => 0xBECEEF38#32
  | 73 => 0xBF2AD07B#32
  | 74 => 0x400CBFA5#32
  | 75 => 0x3DDF8B69#32
  | 76 => 0xBF3B73CA#32
  | 77 => 0x3EBE91B4#32
  | 78 => 0xBFBB522D#32
  | 79 => 0xBF53506A#32
  | 80 => 0x3F8A101E#32
  | 81 => 0x3F58E308#32
  | 82 => 0x3EA3393D#32
  | 83 => 0xBE5338D0#32
  | 84 => 0x403F6702#32
  | 85 => 0x40652231#32
  | 86 => 0x400D5846#32
  | 87 => 0x400BA925#32
  | 88 => 0x4025183D#32
  | 89 => 0x400FE9D7#32
  | 90 => 0x3F2E9DD4#32
  | 91 => 0x409140EC#32
  | 92 => 0x3F92E4D3#32
  | 93 => 0x3E484E34#32
  | 94 => 0x3F7B71E6#32
  | 95 => 0xBE3D81A1#32
  | 96 => 0xBD9ED56D#32
  | 97 => 0x3F5478C4#32
  | 98 => 0xBF5D40A7#32
  | 99 => 0x40908430#32
  | 100 => 0x3FB583EB#32
  | 101 => 0xBE8C63A2#32
  | 102 => 0x3ED44FA3#32
  | 103 => 0xBE145EA3#32
  | 104 => 0x3FC54FDE#32
  | 105 => 0xBF41F453#32
  | 106 => 0x3F990E0D#32
  | 107 => 0x40210319#32
  | 108 => 0x3F84E34A#32
  | 109 => 0x3F23329A#32
  | 110 => 0x3F0FB61F#32
  | 111 => 0x3E3C6B39#32
  | 112 => 0x3D9E6E46#32
  | 113 => 0x3F909952#32
  | 114 => 0x3EB59DFB#32
  | 115 => 0xBFB438B9#32
  | 116 => 0xBF830083#32
  | 117 => 0xBF8D3662#32
  | 118 => 0x3EC41FEC#32
  | 119 => 0x3F379074#32
  | 120 => 0x3F52477E#32
  | 121 => 0xBFDAB9A6#32
  | 122 => 0x3FB944D9#32
  | 123 => 0x3F3834E2#32
  | 124 => 0xBFC325F3#32
  | 125 => 0xBE9C616E#32
  | 126 => 0xBE7CF375#32
  | 127 => 0x3F34CFFF#32
  | _ => 0#32

noncomputable abbrev lit0t0_450 (i : Nat) : BitVec 32 := match i % 128 with
  | 0 => 0x3F8122EE#32
  | 1 => 0x3F8192B1#32
  | 2 => 0xBD7180C7#32
  | 3 => 0xBEA496FD#32
  | 4 => 0x3F9D144B#32
  | 5 => 0x3FBBF0A5#32
  | 6 => 0x3F81D6DE#32
  | 7 => 0x401352B1#32
  | 8 => 0xBF0606E0#32
  | 9 => 0x3FBA52B1#32
  | 10 => 0xBFF141D3#32
  | 11 => 0xBEB65AAE#32
  | 12 => 0xBE86FFBB#32
  | 13 => 0xBF950245#32
  | 14 => 0x3F3BBBA8#32
  | 15 => 0x40045E7B#32
  | 16 => 0x3FB80F9D#32
  | 17 => 0x4011D004#32
  | 18 => 0xBE3EAA4D#32
  | 19 => 0xBEB71EDD#32
  | 20 => 0xBE8C6F39#32
  | 21 => 0x3FD1CE3C#32
  | 22 => 0xBF75B9F5#32
  | 23 => 0x402DBABA#32
  | 24 => 0x4003C59A#32
  | 25 => 0xBED5C3AC#32
  | 26 => 0x3CDF7C5B#32
  | 27 => 0x3F81EF51#32
  | 28 => 0x3E233F73#32
  | 29 => 0x3ED7CC1B#32
  | 30 => 0x3F83C55A#32
  | 31 => 0x3FCFA0B4#32
  | 32 => 0x3F468162#32
  | 33 => 0x3E211097#32
  | 34 => 0x3F8C77F4#32
  | 35 => 0x3C77AB0F#32
  | 36 => 0x3E2BF536#32
  | 37 => 0xBD2EC991#32
  | 38 => 0xBE41402E#32
  | 39 => 0x3CB4218B#32
  | 40 => 0xBF170DE0#32
  | 41 => 0x3FD11CDE#32
  | 42 => 0x3FA55421#32
  | 43 => 0xBCDC1F93#32
  | 44 => 0x3F15F66C#32
  | 45 => 0x400A7A6D#32
  | 46 => 0x400CFF9D#32
  | 47 => 0x3E800CE9#32
  | 48 => 0x3FCE1A6B#32
  | 49 => 0xBED4C349#32
  | 50 => 0x3F386425#32
  | 51 => 0xBF69EC77#32
  | 52 => 0xBF71A99A#32
  | 53 => 0xBF6E36B3#32
  | 54 => 0x4082FF01#32
  | 55 => 0xBC86119C#32
  | 56 => 0x3E2F8A60#32
  | 57 => 0x3EE31780#32
  | 58 => 0x3E8608BB#32
  | 59 => 0x3FB208FF#32
  | 60 => 0x403D3DA1#32
  | 61 => 0x40109F62#32
  | 62 => 0xBE90400D#32
  | 63 => 0xBF9A2C38#32
  | 64 => 0x405644EE#32
  | 65 => 0x3F8AA6FE#32
  | 66 => 0xBF0D8AD8#32
  | 67 => 0x3DE61425#32
  | 68 => 0xBF2768C8#32
  | 69 => 0x3F70714E#32
  | 70 => 0xBF37EEDD#32
  | 71 => 0x3FDCD44A#32
  | 72 => 0xBE96AD9C#32
  | 73 => 0xBC2A1044#32
  | 74 => 0xBF7903C2#32
  | 75 => 0x3F4F3A5C#32
  | 76 => 0x3FE5FD02#32
  | 77 => 0x3FC8B7B8#32
  | 78 => 0x3F724348#32
  | 79 => 0x3FD9A42F#32
  | 80 => 0xBFA00F36#32
  | 81 => 0xBF43A525#32
  | 82 => 0xBED5967E#32
  | 83 => 0xBF0D6673#32
  | 84 => 0x3E092E68#32
  | 85 => 0xBE4C5E61#32
  | 86 => 0xBE31D017#32
  | 87 => 0x3F846D51#32
  | 88 => 0x3F79A72E#32
  | 89 => 0x3F600B76#32
  | 90 => 0xBF19BE7D#32
  | 91 => 0xBF5094C0#32
  | 92 => 0x3F1FA11D#32
  | 93 => 0xBE916DB4#32
  | 94 => 0x40DD2E0B#32
  | 95 => 0xBFE26DA8#32
  | 96 => 0xBD082604#32
  | 97 => 0x4067F56C#32
  | 98 => 0x3F352D21#32
  | 99 => 0x4036BE2B#32
  | 100 => 0x3F2CFFB6#32
  | 101 => 0x407ABE0F#32
  | 102 => 0x3FFF268B#32
  | 103 => 0x3CD8830C#32
  | 104 => 0x3F743F34#32
  | 105 => 0xBD9B51D4#32
  | 106 => 0x3FAA93F4#32
  | 107 => 0xBE03DE45#32
  | 108 => 0x3F8C0C6E#32
  | 109 => 0xBF5A60D0#32
  | 110 => 0xBF026124#32
  | 111 => 0x3FA1010C#32
  | 112 => 0xBD2AC017#32
  | 113 => 0x3F60F591#32
  | 114 => 0x3F04629C#32
  | 115 => 0xBD042ED2#32
  | 116 => 0xBFBC8A2B#32
  | 117 => 0xBC18CC08#32
  | 118 => 0xBF419A5C#32
  | 119 => 0xBEAE54D7#32
  | 120 => 0x3E372EF7#32
  | 121 => 0x40130AFF#32
  | 122 => 0xBE1D3128#32
  | 123 => 0x3EA599FD#32
  | 124 => 0x3F98A7FB#32
  | 125 => 0xBE02DA91#32
  | 126 => 0xBEC21534#32
  | 127 => 0xBEE38980#32
  | _ => 0#32

noncomputable abbrev lit0t0_451 (i : Nat) : BitVec 32 := match i % 128 with
  | 0 => 0x3EFF312C#32
  | 1 => 0x3F451D3F#32
  | 2 => 0x3E69988B#32
  | 3 => 0x3DE32558#32
  | 4 => 0x3E4C6F6E#32
  | 5 => 0xBF9DF84E#32
  | 6 => 0xBEE165FC#32
  | 7 => 0x4004D61B#32
  | 8 => 0x3F443AB5#32
  | 9 => 0x3EB3D39A#32
  | 10 => 0x3F41D455#32
  | 11 => 0x402A9A7A#32
  | 12 => 0x3FE003BF#32
  | 13 => 0x40569323#32
  | 14 => 0x406B397F#32
  | 15 => 0xBF16D1C3#32
  | 16 => 0xBF351B07#32
  | 17 => 0x3F94C766#32
  | 18 => 0x3FA0400D#32
  | 19 => 0x4016FD20#32
  | 20 => 0xBF0A5CAA#32
  | 21 => 0x3DFE6FF2#32
  | 22 => 0x3F36E04E#32
  | 23 => 0x3E82A7F2#32
  | 24 => 0x3F95CA07#32
  | 25 => 0x3F999A69#32
  | 26 => 0xBE058AD8#32
  | 27 => 0x408DF38E#32
  | 28 => 0xBCFEDB83#32
  | 29 => 0xBF0417C9#32
  | 30 => 0x3F301DC5#32
  | 31 => 0x402846EE#32
  | 32 => 0x3F677BE2#32
  | 33 => 0x3FAE602C#32
  | 34 => 0x3F44CAD5#32
  | 35 => 0x3F8D577B#32
  | 36 => 0x3F95F15D#32
  | 37 => 0xBE325E45#32
  | 38 => 0xBF101306#32
  | 39 => 0x3FCF881C#32
  | 40 => 0xBEC5302F#32
  | 41 => 0xBE8F817E#32
  | 42 => 0x3F0AB030#32
  | 43 => 0x3EA436AC#32
  | 44 => 0x3F7A43E2#32
  | 45 => 0x3EDD446E#32
  | 46 => 0x3FA28873#32
  | 47 => 0x3F60EB7B#32
  | 48 => 0x3FD2D75E#32
  | 49 => 0x3EDA8460#32
  | 50 => 0xBF33D68D#32
  | 51 => 0x3DC85339#32
  | 52 => 0x3E807B5B#32
  | 53 => 0x40682C6D#32
  | 54 => 0x3FC83A73#32
  | 55 => 0xBD8F0116#32
  | 56 => 0x4024C50E#32
  | 57 => 0x3F447F34#32
  | 58 => 0x3F22E543#32
  | 59 => 0xBF91A467#32
  | 60 => 0x3F473C87#32
  | 61 => 0x40175AF6#32
  | 62 => 0xBFCFF445#32
  | 63 => 0x3F3714A8#32
  | 64 => 0x3DE20323#32
  | 65 => 0xBFA78283#32
  | 66 => 0x3ECF66F6#32
  | 67 => 0xBF25B11A#32
  | 68 => 0xBF9418D0#32
  | 69 => 0xBEAADE0A#32
  | 70 => 0x3F54070C#32
  | 71 => 0x3FB9A4A6#32
  | 72 => 0xBF93F6A3#32
  | 73 => 0x3F86082A#32
  | 74 => 0x3EE2FC58#32
  | 75 => 0xBF21F34F#32
  | 76 => 0x402A1AA4#32
  | 77 => 0x404CB48E#32
  | 78 => 0x3FEC02EB#32
  | 79 => 0x3D80D501#32
  | 80 => 0xBFE37F37#32
  | 81 => 0x40465B44#32
  | 82 => 0x3EB2955C#32
  | 83 => 0x3F3A7A91#32
  | 84 => 0xBE94E9AA#32
  | 85 => 0x3FDC7E97#32
  | 86 => 0x3F358CF9#32
  | 87 => 0xBF1A72A0#32
  | 88 => 0x3FAA9001#32
  | 89 => 0xBF8D70AA#32
  | 90 => 0xBEC24474#32
  | 91 => 0x3FC01074#32
  | 92 => 0x401A7F22#32
  | 93 => 0x3FAE149F#32
  | 94 => 0x3F89ADEA#32
  | 95 => 0xBDB60F3F#32
  | 96 => 0x3E2A1990#32
  | 97 => 0xBF813B74#32
  | 98 => 0x3FB934B6#32
  | 99 => 0x3E705720#32
  | 100 => 0x3F495314#32
  | 101 => 0x3F17FA16#32
  | 102 => 0x3F86259C#32
  | 103 => 0xBF4289E0#32
  | 104 => 0x3EC3E71A#32
  | 105 => 0x3F6EAB14#32
  | 106 => 0x3F3427F5#32
  | 107 => 0xBF717F16#32
  | 108 => 0x3F45D286#32
  | 109 => 0xBF6034A0#32
  | 110 => 0xBFF3148B#32
  | 111 => 0x3EE2B4C0#32
  | 112 => 0x3F71EF7E#32
  | 113 => 0xBCBF3352#32
  | 114 => 0x40659996#32
  | 115 => 0x3D75E08F#32
  | 116 => 0xBFBCF261#32
  | 117 => 0x3EAA3B4D#32
  | 118 => 0x3F991548#32
  | 119 => 0x3F84076C#32
  | 120 => 0xBE7F385C#32
  | 121 => 0x3F76C43E#32
  | 122 => 0xBF596AD0#32
  | 123 => 0x3EC054AD#32
  | 124 => 0x3E934111#32
  | 125 => 0x3ECE2E24#32
  | 126 => 0x3F816FFE#32
  | 127 => 0x407832C9#32
  | _ => 0#32

noncomputable abbrev lit0t0_452 (i : Nat) : BitVec 32 := match i % 128 with
  | 0 => 0xBE2661F2#32
  | 1 => 0x3FC9251E#32
  | 2 => 0xBF37ED5B#32
  | 3 => 0x3F787939#32
  | 4 => 0x3F64876A#32
  | 5 => 0x3FF75113#32
  | 6 => 0xBFCE0EB6#32
  | 7 => 0xBFDFE22D#32
  | 8 => 0x3EC2E4AC#32
  | 9 => 0x3F8C8F48#32
  | 10 => 0xBF49E2C5#32
  | 11 => 0x3E8FE57A#32
  | 12 => 0x3E52B64B#32
  | 13 => 0x3F5DBA68#32
  | 14 => 0x40898D8B#32
  | 15 => 0xBDEF4EBA#32
  | 16 => 0xBFA3C869#32
  | 17 => 0xBED612BC#32
  | 18 => 0xBEBA88C0#32
  | 19 => 0x3FD1B922#32
  | 20 => 0x3F2060BA#32
  | 21 => 0x4067CDD4#32
  | 22 => 0x3EDBB04D#32
  | 23 => 0x3F89E54A#32
  | 24 => 0xBDAE7C82#32
  | 25 => 0x3D963363#32
  | 26 => 0x401255DB#32
  | 27 => 0xBF0E40B3#32
  | 28 => 0x3E741557#32
  | 29 => 0x3EBBC3E6#32
  | 30 => 0x3F76D0FE#32
  | 31 => 0xBF5EBF0A#32
  | 32 => 0x3D489D48#32
  | 33 => 0x3FE53C70#32
  | 34 => 0x3EFF848E#32
  | 35 => 0xBF9092BA#32
  | 36 => 0xBF5A5454#32
  | 37 => 0x3F65C1C5#32
  | 38 => 0x3F106F74#32
  | 39 => 0xBFA6F420#32
  | 40 => 0x408861D9#32
  | 41 => 0xBE83EE01#32
  | 42 => 0x3CEA4467#32
  | 43 => 0x3F0F09EE#32
  | 44 => 0x4080583C#32
  | 45 => 0x3D8AF84A#32
  | 46 => 0xBDF00625#32
  | 47 => 0xBF8BC9A5#32
  | 48 => 0x3F06F8D4#32
  | 49 => 0x3F7CD55E#32
  | 50 => 0xBEC6FB2C#32
  | 51 => 0xBF41DB29#32
  | 52 => 0x40F2A5FB#32
  | 53 => 0x3DB2CF34#32
  | 54 => 0x3E92E812#32
  | 55 => 0xBF1034B6#32
  | 56 => 0xBE7EF11B#32
  | 57 => 0x3E4B7FB7#32
  | 58 => 0x40A89BA1#32
  | 59 => 0xBE84DF3D#32
  | 60 => 0xBE34C46E#32
  | 61 => 0xBF20D5A5#32
  | 62 => 0x3FA0BB9A#32
  | 63 => 0xBE2B0DC8#32
  | 64 => 0xBEF3E965#32
  | 65 => 0x40173AFA#32
  | 66 => 0x3F83CDB0#32
  | 67 => 0x3F7C20EA#32
  | 68 => 0x3E802BF4#32
  | 69 => 0x40020025#32
  | 70 => 0x3F2C2283#32
  | 71 => 0x3F5B4524#32
  | 72 => 0xBF506555#32
  | 73 => 0x3EA99A1D#32
  | 74 => 0x3F828467#32
  | 75 => 0x3FCEA543#32
  | 76 => 0xBF4AA65E#32
  | 77 => 0xBEF51DA9#32
  | 78 => 0xBED082FF#32
  | 79 => 0x3F3AEE85#32
  | 80 => 0x3F482FEF#32
  | 81 => 0xBE6C4CDE#32
  | 82 => 0x3EEB6F5E#32
  | 83 => 0xBF5BF06F#32
  | 84 => 0xBF2ABBCB#32
  | 85 => 0x3E8AEC5A#32
  | 86 => 0x3FE303C5#32
  | 87 => 0x3F2E8635#32
  | 88 => 0x3DE9D0F1#32
  | 89 => 0x3F122755#32
  | 90 => 0xBD067833#32
  | 91 => 0x3EC602B6#32
  | 92 => 0x3FF7D06A#32
  | 93 => 0x3E5AA93B#32
  | 94 => 0xBD98457F#32
  | 95 => 0x3F12C7B8#32
  | 96 => 0x3FB3B6D8#32
  | 97 => 0xBE40A7A6#32
  | 98 => 0xBF325E4B#32
  | 99 => 0xBF22810F#32
  | 100 => 0xBEF43F5C#32
  | 101 => 0x3F129AF1#32
  | 102 => 0xBFCD7A41#32
  | 103 => 0x3F9BF70D#32
  | 104 => 0x3EFEAEF6#32
  | 105 => 0xBF1C3E5F#32
  | 106 => 0xBF38525C#32
  | 107 => 0xBF1EE32A#32
  | 108 => 0xBE7A399F#32
  | 109 => 0x3FD65D29#32
  | 110 => 0x3E950BCD#32
  | 111 => 0xBF2BDCC4#32
  | 112 => 0x3F8240F9#32
  | 113 => 0x3FE7DBAE#32
  | 114 => 0x3F96FDDA#32
  | 115 => 0x3F01FB8D#32
  | 116 => 0x3FB777C6#32
  | 117 => 0x3F0D71C4#32
  | 118 => 0x40B76806#32
  | 119 => 0xBD862C99#32
  | 120 => 0x403735C7#32
  | 121 => 0x3E22EC23#32
  | 122 => 0xBF3D4C05#32
  | 123 => 0x3E13D20F#32
  | 124 => 0xBCADA254#32
  | 125 => 0x405551C6#32
  | 126 => 0xBF0B4B96#32
  | 127 => 0x3F6B4DDC#32
  | _ => 0#32

noncomputable abbrev lit0t0_453 (i : Nat) : BitVec 32 := match i % 128 with
  | 0 => 0xBEE98CC8#32
  | 1 => 0xBFA9E6E3#32
  | 2 => 0x3E84D7C1#32
  | 3 => 0x3ECD0895#32
  | 4 => 0xBF189FC8#32
  | 5 => 0x3FE6E67C#32
  | 6 => 0x3D271846#32
  | 7 => 0xBF46A268#32
  | 8 => 0x3FCE3E92#32
  | 9 => 0x3E646D85#32
  | 10 => 0x3E55504D#32
  | 11 => 0x3DBAA926#32
  | 12 => 0x3FFC5A89#32
  | 13 => 0x3F867D42#32
  | 14 => 0x3F64D9D6#32
  | 15 => 0x3E8D25B1#32
  | 16 => 0x3FD1B528#32
  | 17 => 0x3FEC120C#32
  | 18 => 0xBE12F44F#32
  | 19 => 0x3EFE86CE#32
  | 20 => 0x3FA9835C#32
  | 21 => 0x3FDBA7F7#32
  | 22 => 0x3F11401F#32
  | 23 => 0x3FA2FFBE#32
  | 24 => 0x3F010FA9#32
  | 25 => 0x3EA540D3#32
  | 26 => 0xBEADD6A8#32
  | 27 => 0x3FFD5BD7#32
  | 28 => 0xBEDECE98#32
  | 29 => 0x3F0A55CB#32
  | 30 => 0xBED0F543#32
  | 31 => 0x4062F8A8#32
  | 32 => 0x402D7A8A#32
  | 33 => 0x400CD67D#32
  | 34 => 0x3F508CBE#32
  | 35 => 0x3F62034C#32
  | 36 => 0x3F409A20#32
  | 37 => 0x400FA345#32
  | 38 => 0x4051F026#32
  | 39 => 0xBF03DA5E#32
  | 40 => 0x3FB7363B#32
  | 41 => 0xBEA49362#32
  | 42 => 0x4004ACA6#32
  | 43 => 0x3FBB8FE6#32
  | 44 => 0x3F714E51#32
  | 45 => 0x3E46EDEB#32
  | 46 => 0xBEC26364#32
  | 47 => 0xBFB453DF#32
  | 48 => 0xBCE99E8E#32
  | 49 => 0xBF3EE4AC#32
  | 50 => 0x3E99269F#32
  | 51 => 0xBF02F23C#32
  | 52 => 0xBF1D3FAD#32
  | 53 => 0x3F9F4511#32
  | 54 => 0xBDE08D5C#32
  | 55 => 0x3D7BA851#32
  | 56 => 0x3FC27426#32
  | 57 => 0xBF2EB5BE#32
  | 58 => 0x400BFE34#32
  | 59 => 0x4044B97A#32
  | 60 => 0x3CF78241#32
  | 61 => 0x3F872E5C#32
  | 62 => 0xBE6E2936#32
  | 63 => 0xBE4A75EF#32
  | 64 => 0x4049379E#32
  | 65 => 0x3F707DB8#32
  | 66 => 0x401E2F6B#32
  | 67 => 0x40349577#32
  | 68 => 0x3F59CE34#32
  | 69 => 0x3E89F7EF#32
  | 70 => 0xBEE3D4EA#32
  | 71 => 0xBF91B46F#32
  | 72 => 0x3E2652E9#32
  | 73 => 0xBDF670F8#32
  | 74 => 0x40449AB8#32
  | 75 => 0x3FAB0561#32
  | 76 => 0xBECC95F9#32
  | 77 => 0x3E89C81F#32
  | 78 => 0xBF3C8B94#32
  | 79 => 0xBBA59EAC#32
  | 80 => 0x3E3E0FCC#32
  | 81 => 0x3EBDC30A#32
  | 82 => 0xBEFBB900#32
  | 83 => 0xBF8CAC1A#32
  | 84 => 0x3FABA44E#32
  | 85 => 0x3FA71541#32
  | 86 => 0x3F3BC2BC#32
  | 87 => 0x4081C23C#32
  | 88 => 0xBE114310#32
  | 89 => 0xBF94D73C#32
  | 90 => 0xBF4EEB44#32
  | 91 => 0xBF3EFCB7#32
  | 92 => 0xBF8BADC3#32
  | 93 => 0x3CC81E2D#32
  | 94 => 0x400EC36F#32
  | 95 => 0xBEEB8A55#32
  | 96 => 0x3EB543DF#32
  | 97 => 0xBE9C1146#32
  | 98 => 0x4044834A#32
  | 99 => 0x3F3C8D29#32
  | 100 => 0xBDBD9682#32
  | 101 => 0xBDD78F32#32
  | 102 => 0x3D44B0B9#32
  | 103 => 0x402BECC5#32
  | 104 => 0x3F7C1795#32
  | 105 => 0x3EBAC2FB#32
  | 106 => 0x3F2E9D66#32
  | 107 => 0xBF640D50#32
  | 108 => 0xBE1D3008#32
  | 109 => 0x3F816474#32
  | 110 => 0x3EB63454#32
  | 111 => 0x3F8F52D6#32
  | 112 => 0xBF8E005A#32
  | 113 => 0x3E39D1A9#32
  | 114 => 0x3EC3C6E2#32
  | 115 => 0x40145402#32
  | 116 => 0x3FBD9A37#32
  | 117 => 0x3F307B2B#32
  | 118 => 0x3EB61361#32
  | 119 => 0x3F21357A#32
  | 120 => 0x3FB85F07#32
  | 121 => 0x3FB4F786#32
  | 122 => 0x3EC8A065#32
  | 123 => 0xBE2330DB#32
  | 124 => 0x3F8203B8#32
  | 125 => 0xBFBC5212#32
  | 126 => 0x3F21650D#32
  | 127 => 0x3E7AD0D5#32
  | _ => 0#32

noncomputable abbrev lit0t0_454 (i : Nat) : BitVec 32 := match i % 128 with
  | 0 => 0xBFE3607A#32
  | 1 => 0x40312B15#32
  | 2 => 0xBF101F1A#32
  | 3 => 0xBF3930DF#32
  | 4 => 0x3FDC6179#32
  | 5 => 0x3FB0C211#32
  | 6 => 0x3E918AD0#32
  | 7 => 0x3F834192#32
  | 8 => 0x3F333563#32
  | 9 => 0x3EF0E6C6#32
  | 10 => 0x3DA70AA0#32
  | 11 => 0x402D6039#32
  | 12 => 0x3FEEC50B#32
  | 13 => 0xBF253F9F#32
  | 14 => 0xBF079FA2#32
  | 15 => 0x3ECACF5B#32
  | 16 => 0x3FA0DC4D#32
  | 17 => 0x3F51884C#32
  | 18 => 0x40184F6B#32
  | 19 => 0x3F858E61#32
  | 20 => 0x3FEFD170#32
  | 21 => 0x40627F45#32
  | 22 => 0x3F82EBFD#32
  | 23 => 0x3F4555E1#32
  | 24 => 0x3EFE4B32#32
  | 25 => 0x3F8A196F#32
  | 26 => 0x3FBA1FD2#32
  | 27 => 0xBDD3998D#32
  | 28 => 0x3F4C77DD#32
  | 29 => 0xBF2D8E08#32
  | 30 => 0x3DDCBC3B#32
  | 31 => 0x3ED55195#32
  | 32 => 0xBDC7A553#32
  | 33 => 0xBF7E2133#32
  | 34 => 0x4046B148#32
  | 35 => 0x4027555E#32
  | 36 => 0xBEE06684#32
  | 37 => 0x3FCF6F36#32
  | 38 => 0x3FA0FDA1#32
  | 39 => 0x3F091D6B#32
  | 40 => 0x3F8FBC05#32
  | 41 => 0x3FEF536C#32
  | 42 => 0xBF60FE9A#32
  | 43 => 0x400C8F0C#32
  | 44 => 0x3E8F87C0#32
  | 45 => 0xBF97A21C#32
  | 46 => 0x3ECDC752#32
  | 47 => 0xBEABD1A1#32
  | 48 => 0xBD70C1BD#32
  | 49 => 0xBF3B7E51#32
  | 50 => 0xBDD84B56#32
  | 51 => 0x40995F66#32
  | 52 => 0xBE90C319#32
  | 53 => 0xBFBA565C#32
  | 54 => 0x3EFFDAA0#32
  | 55 => 0x3DB052B0#32
  | 56 => 0xBF849AAA#32
  | 57 => 0x3E31C785#32
  | 58 => 0x3F9F64BE#32
  | 59 => 0x3F7F611D#32
  | 60 => 0x3EC90058#32
  | 61 => 0xBF331FA7#32
  | 62 => 0xBFC87E60#32
  | 63 => 0xBEA80EB8#32
  | 64 => 0x3F60204E#32
  | 65 => 0x40B3B873#32
  | 66 => 0x4068300C#32
  | 67 => 0x3E82C3B3#32
  | 68 => 0x4060C8F1#32
  | 69 => 0xBF84CBD0#32
  | 70 => 0xBEFE9F9F#32
  | 71 => 0xBF53EAA1#32
  | 72 => 0x3D9CB1C3#32
  | 73 => 0xBEB7AC6E#32
  | 74 => 0xBE6ED66A#32
  | 75 => 0xBE724CC1#32
  | 76 => 0x3F9B1391#32
  | 77 => 0x3EEB5FE0#32
  | 78 => 0x3F84BC87#32
  | 79 => 0x3F5B6DCD#32
  | 80 => 0xBB684A7D#32
  | 81 => 0xBED95B5C#32
  | 82 => 0xBE981FCA#32
  | 83 => 0xBF2F881B#32
  | 84 => 0x3E61DAB9#32
  | 85 => 0x3FF3EDA2#32
  | 86 => 0xBF6008C7#32
  | 87 => 0x4053E98E#32
  | 88 => 0x3F1E8DE2#32
  | 89 => 0xBEE1351C#32
  | 90 => 0x3F989E4E#32
  | 91 => 0xBE8E4767#32
  | 92 => 0x4030C20C#32
  | 93 => 0xBC395D8C#32
  | 94 => 0xBF3F6340#32
  | 95 => 0xBCCCB212#32
  | 96 => 0xBF03D280#32
  | 97 => 0x3EA38FC6#32
  | 98 => 0x3F8792AD#32
  | 99 => 0x401FBBF4#32
  | 100 => 0xBF891551#32
  | 101 => 0xBEA13336#32
  | 102 => 0x3FEE7E46#32
  | 103 => 0x3AE13782#32
  | 104 => 0xBEB62BDD#32
  | 105 => 0x3F84B9F7#32
  | 106 => 0x3FF2F431#32
  | 107 => 0x405DFF65#32
  | 108 => 0x40515767#32
  | 109 => 0x3E4E0BB7#32
  | 110 => 0x40281665#32
  | 111 => 0x3ECD100F#32
  | 112 => 0x3FFC8B42#32
  | 113 => 0x3FDA9D5D#32
  | 114 => 0xBF3B95D5#32
  | 115 => 0xBF1156D7#32
  | 116 => 0xBF88A4CA#32
  | 117 => 0x3FCA5906#32
  | 118 => 0xBD74DE54#32
  | 119 => 0x3F1277E1#32
  | 120 => 0x3FFB14B8#32
  | 121 => 0x3FEECCBB#32
  | 122 => 0x3E8CBA27#32
  | 123 => 0xBF38B9D9#32
  | 124 => 0x3F1FB7AE#32
  | 125 => 0xBF5709BA#32
  | 126 => 0x4017A10B#32
  | 127 => 0xBDEE1ABD#32
  | _ => 0#32

noncomputable abbrev lit0t0_455 (i : Nat) : BitVec 32 := match i % 128 with
  | 0 => 0xBF4DB566#32
  | 1 => 0x3F524393#32
  | 2 => 0x3F838A52#32
  | 3 => 0x3F4F039D#32
  | 4 => 0xBFAC9D0B#32
  | 5 => 0x40135295#32
  | 6 => 0x3EE8B8A8#32
  | 7 => 0x3F4E29B4#32
  | 8 => 0xBF26FA22#32
  | 9 => 0x3D8BCFD9#32
  | 10 => 0x3F498112#32
  | 11 => 0x3FC7F6D2#32
  | 12 => 0xBE560ED3#32
  | 13 => 0x3FB484F8#32
  | 14 => 0x3FAC119C#32
  | 15 => 0x3D458A74#32
  | 16 => 0xBEB05746#32
  | 17 => 0xBF778101#32
  | 18 => 0x3D0B40CC#32
  | 19 => 0x40095FF3#32
  | 20 => 0x3FB3C25A#32
  | 21 => 0x40A441C4#32
  | 22 => 0x3F323ACD#32
  | 23 => 0x409613E7#32
  | 24 => 0xBDA43399#32
  | 25 => 0x4010792A#32
  | 26 => 0x401F2F1E#32
  | 27 => 0x3FA5B7B3#32
  | 28 => 0xBEA72972#32
  | 29 => 0xBF4225B0#32
  | 30 => 0xBF2FC38E#32
  | 31 => 0x405E9029#32
  | 32 => 0x3E3383EF#32
  | 33 => 0x3FA996F7#32
  | 34 => 0xBD99CBF4#32
  | 35 => 0x3F16F7DE#32
  | 36 => 0x3F4084B1#32
  | 37 => 0x3E5D588D#32
  | 38 => 0x4012D824#32
  | 39 => 0x3F559222#32
  | 40 => 0xBF800E49#32
  | 41 => 0x3FB84408#32
  | 42 => 0x4014F885#32
  | 43 => 0x3EA2B617#32
  | 44 => 0x3FA52680#32
  | 45 => 0x3F942D92#32
  | 46 => 0x3FD36574#32
  | 47 => 0x3F7ECA24#32
  | 48 => 0xBE2A77AE#32
  | 49 => 0x3ED36DB0#32
  | 50 => 0x3EA6F8C6#32
  | 51 => 0xBE3CB619#32
  | 52 => 0xBF1C23EB#32
  | 53 => 0xBF891CA0#32
  | 54 => 0x3F534712#32
  | 55 => 0xBF36ED58#32
  | 56 => 0xBF0E4D89#32
  | 57 => 0xBEBF97D9#32
  | 58 => 0x3D5330A4#32
  | 59 => 0x3F4881B9#32
  | 60 => 0xBF3E6AAE#32
  | 61 => 0xBEDF1115#32
  | 62 => 0xBF08E854#32
  | 63 => 0xBE37DA1B#32
  | 64 => 0x3F21C2E5#32
  | 65 => 0x403A5DF9#32
  | 66 => 0x3F1E333D#32
  | 67 => 0x3EE98604#32
  | 68 => 0xBE46C664#32
  | 69 => 0x402F3BD7#32
  | 70 => 0x3F8D7CAD#32
  | 71 => 0x3DE49625#32
  | 72 => 0x3FCBDF28#32
  | 73 => 0xBF5DAB0A#32
  | 74 => 0x3F075CC2#32
  | 75 => 0x3EB7AB0D#32
  | 76 => 0x3DA22700#32
  | 77 => 0x3E925A5B#32
  | 78 => 0xBE90493F#32
  | 79 => 0x3EE60FE4#32
  | 80 => 0x3F584A3E#32
  | 81 => 0x3E8296B4#32
  | 82 => 0x3F65A010#32
  | 83 => 0x401D30D6#32
  | 84 => 0xBEA453CF#32
  | 85 => 0x3EB67452#32
  | 86 => 0xBF5EA892#32
  | 87 => 0xBF864E70#32
  | 88 => 0x3D2D2BD1#32
  | 89 => 0x3F81064E#32
  | 90 => 0xBE4F9309#32
  | 91 => 0x3F4AFAD0#32
  | 92 => 0x3EE71D34#32
  | 93 => 0xBF0ACE00#32
  | 94 => 0x3EA647F8#32
  | 95 => 0x4082AD4E#32
  | 96 => 0x3FEEE320#32
  | 97 => 0xBF0AC975#32
  | 98 => 0x3F11B130#32
  | 99 => 0x40071CE4#32
  | 100 => 0x3F0B398B#32
  | 101 => 0xBF1EC82F#32
  | 102 => 0xBEBF57EE#32
  | 103 => 0xBF543139#32
  | 104 => 0xBEEDAB60#32
  | 105 => 0xBE2AF0FB#32
  | 106 => 0x4005D4EC#32
  | 107 => 0x3E6B3412#32
  | 108 => 0xBE799C91#32
  | 109 => 0x3FEE7176#32
  | 110 => 0xBF321262#32
  | 111 => 0x3F5967EA#32
  | 112 => 0x3F82C0C8#32
  | 113 => 0x3F17C91E#32
  | 114 => 0x3E74CBC9#32
  | 115 => 0x3D51CB1B#32
  | 116 => 0x3F31BD6B#32
  | 117 => 0xBE8C41D0#32
  | 118 => 0xBDDCBE90#32
  | 119 => 0x3F434DB0#32
  | 120 => 0x3FC29BB9#32
  | 121 => 0x3F8BDADE#32
  | 122 => 0x3F2436C9#32
  | 123 => 0xBF75C7EF#32
  | 124 => 0x4003162A#32
  | 125 => 0xBEC17936#32
  | 126 => 0x3E804E94#32
  | 127 => 0xBF800BB1#32
  | _ => 0#32

noncomputable abbrev lit0t0_456 (i : Nat) : BitVec 32 := match i % 128 with
  | 0 => 0xBEC7EF64#32
  | 1 => 0xBFBAE34C#32
  | 2 => 0xBF014450#32
  | 3 => 0x3E2E7CF9#32
  | 4 => 0x3FEE4721#32
  | 5 => 0x3FB7A1FF#32
  | 6 => 0x3EF951E3#32
  | 7 => 0xBF200A6C#32
  | 8 => 0xBF03A250#32
  | 9 => 0xBEF7606D#32
  | 10 => 0xBE91F0D1#32
  | 11 => 0xBEECB808#32
  | 12 => 0xBF569433#32
  | 13 => 0x3F1418D1#32
  | 14 => 0xBEAD5CE0#32
  | 15 => 0x3DA02223#32
  | 16 => 0xBF6A2DD2#32
  | 17 => 0x408585F3#32
  | 18 => 0xBEFD27A8#32
  | 19 => 0x3FA9F07B#32
  | 20 => 0xBF2EA2D7#32
  | 21 => 0x3E81575D#32
  | 22 => 0xBF4B1FFB#32
  | 23 => 0xBED9BDB9#32
  | 24 => 0xBE5CDBF0#32
  | 25 => 0x3DD6B0C4#32
  | 26 => 0xBFC8E805#32
  | 27 => 0x405FFDB3#32
  | 28 => 0x3EABC693#32
  | 29 => 0x40036B78#32
  | 30 => 0x3F441337#32
  | 31 => 0xBF074202#32
  | 32 => 0x402146CA#32
  | 33 => 0xBEEC0842#32
  | 34 => 0x3ED7BEA6#32
  | 35 => 0xBFB81774#32
  | 36 => 0x3F08BF68#32
  | 37 => 0xBD8AC9A6#32
  | 38 => 0x3ECA3EDA#32
  | 39 => 0x3FA0FC8E#32
  | 40 => 0x3EB1114D#32
  | 41 => 0x404B8479#32
  | 42 => 0x3F96094A#32
  | 43 => 0x3EA5DAFF#32
  | 44 => 0x3FDEE1AA#32
  | 45 => 0x3E823C63#32
  | 46 => 0x3E9F88CE#32
  | 47 => 0x3F823899#32
  | 48 => 0x3EADA956#32
  | 49 => 0x3F910A69#32
  | 50 => 0x3F839C57#32
  | 51 => 0x3E6025AA#32
  | 52 => 0xBFB70A60#32
  | 53 => 0x3E3AE0C0#32
  | 54 => 0x3EB3A5D3#32
  | 55 => 0x3F8BE8DE#32
  | 56 => 0x3F454EFB#32
  | 57 => 0xBEB68AF5#32
  | 58 => 0x3E96BEA7#32
  | 59 => 0x3FDB9EF2#32
  | 60 => 0x4002D5AA#32
  | 61 => 0xBF4A15A1#32
  | 62 => 0xBFDD8B70#32
  | 63 => 0x3FF00381#32
  | 64 => 0x3F2077F6#32
  | 65 => 0xBF5E5114#32
  | 66 => 0x3F653FA4#32
  | 67 => 0xBF16447F#32
  | 68 => 0x3FD0B46E#32
  | 69 => 0xBE73BEB2#32
  | 70 => 0x400494FB#32
  | 71 => 0x3FC3E4BB#32
  | 72 => 0x3E55EC16#32
  | 73 => 0x400422A5#32
  | 74 => 0x3FA236AE#32
  | 75 => 0xBF951C7E#32
  | 76 => 0x40238422#32
  | 77 => 0x3FFBF8F6#32
  | 78 => 0x40098BEA#32
  | 79 => 0xBEAAAA00#32
  | 80 => 0xBF634FAC#32
  | 81 => 0x3FAE676C#32
  | 82 => 0x3FAE4423#32
  | 83 => 0xBFC38B5B#32
  | 84 => 0xBDCEBBFD#32
  | 85 => 0x3EFF8B46#32
  | 86 => 0xBE58CED2#32
  | 87 => 0x3F73639C#32
  | 88 => 0x3F8D567F#32
  | 89 => 0xBF7FEDB3#32
  | 90 => 0x3F908970#32
  | 91 => 0xBF3D11AA#32
  | 92 => 0x3E59F251#32
  | 93 => 0x3FB8A68D#32
  | 94 => 0xBAD463EC#32
  | 95 => 0xBF0FF211#32
  | 96 => 0xBDB478BE#32
  | 97 => 0x3F9ECDF1#32
  | 98 => 0x401A55E0#32
  | 99 => 0xBF981757#32
  | 100 => 0x3F263C99#32
  | 101 => 0x400ABA52#32
  | 102 => 0x3F136E9E#32
  | 103 => 0x401A425A#32
  | 104 => 0x3FB5E09D#32
  | 105 => 0x3F84E0AA#32
  | 106 => 0x3F2AEC54#32
  | 107 => 0x3F5962A4#32
  | 108 => 0x3FA140B0#32
  | 109 => 0x3F67726D#32
  | 110 => 0xBF0CBE12#32
  | 111 => 0xBF244711#32
  | 112 => 0xBF0EFC3F#32
  | 113 => 0x3E212900#32
  | 114 => 0xBFC41C60#32
  | 115 => 0x3F42DDBA#32
  | 116 => 0x3FEC16CA#32
  | 117 => 0x3F79EF8D#32
  | 118 => 0x40036307#32
  | 119 => 0x3F863DE2#32
  | 120 => 0xBE943D42#32
  | 121 => 0x3F481472#32
  | 122 => 0x3FFC1069#32
  | 123 => 0x40168FBB#32
  | 124 => 0x3E7BA488#32
  | 125 => 0x3EC91C88#32
  | 126 => 0x3FD800AA#32
  | 127 => 0xBF20BF4A#32
  | _ => 0#32

noncomputable abbrev lit0t0_457 (i : Nat) : BitVec 32 := match i % 128 with
  | 0 => 0x3F5428A2#32
  | 1 => 0x3E8A6D26#32
  | 2 => 0x3FDFD609#32
  | 3 => 0x3F78AC22#32
  | 4 => 0x400EDD56#32
  | 5 => 0x3EFF231A#32
  | 6 => 0x3F879FA2#32
  | 7 => 0xBF7844EF#32
  | 8 => 0x4061483F#32
  | 9 => 0xBE26EE45#32
  | 10 => 0x3FEF5B5F#32
  | 11 => 0x3F179489#32
  | 12 => 0xBF9F43A9#32
  | 13 => 0xBE3D307C#32
  | 14 => 0xBEA1AB41#32
  | 15 => 0x3F9549EF#32
  | 16 => 0x3DF58A40#32
  | 17 => 0x3E9A48DD#32
  | 18 => 0x4002DE45#32
  | 19 => 0x3F2C1B9A#32
  | 20 => 0xBF4E39E4#32
  | 21 => 0x3F7282AF#32
  | 22 => 0xBD2E501B#32
  | 23 => 0x3FE31C0D#32
  | 24 => 0x3EB389B2#32
  | 25 => 0xBEFE0D75#32
  | 26 => 0x3EC2B509#32
  | 27 => 0x3F021AAC#32
  | 28 => 0x3D611602#32
  | 29 => 0x400C06E8#32
  | 30 => 0x3F170772#32
  | 31 => 0x3F858EA6#32
  | 32 => 0x3F116584#32
  | 33 => 0x3FBEFD90#32
  | 34 => 0x3FE4F1E2#32
  | 35 => 0xBE9672CC#32
  | 36 => 0x3FBB652A#32
  | 37 => 0x3F5164FB#32
  | 38 => 0x3E1CDE8B#32
  | 39 => 0xBF427D2C#32
  | 40 => 0x3EAAEF1F#32
  | 41 => 0xBEABFB4D#32
  | 42 => 0xBF3FFA78#32
  | 43 => 0x3F1F6754#32
  | 44 => 0x3EEBC028#32
  | 45 => 0xBFB59FA8#32
  | 46 => 0x4060FACD#32
  | 47 => 0xBDE3B466#32
  | 48 => 0x403573D3#32
  | 49 => 0xBF5D99CD#32
  | 50 => 0xBCD9AC11#32
  | 51 => 0xBED39DF3#32
  | 52 => 0x3F176851#32
  | 53 => 0x40108BC9#32
  | 54 => 0xBF813F38#32
  | 55 => 0x3F8677EB#32
  | 56 => 0x3F26AA94#32
  | 57 => 0xBF381D08#32
  | 58 => 0x3F030DED#32
  | 59 => 0x4098837A#32
  | 60 => 0xBD84AE92#32
  | 61 => 0x40188626#32
  | 62 => 0xBDE929E7#32
  | 63 => 0x3F76A417#32
  | 64 => 0x3E2D01B9#32
  | 65 => 0x3F6AF992#32
  | 66 => 0xBE019998#32
  | 67 => 0x3FB4044C#32
  | 68 => 0x3F9C334D#32
  | 69 => 0xBD272871#32
  | 70 => 0x3D4CCC3F#32
  | 71 => 0xBF88F27E#32
  | 72 => 0x3F3C9140#32
  | 73 => 0x3F998C0B#32
  | 74 => 0x3F8DE7D4#32
  | 75 => 0xBF325793#32
  | 76 => 0x40195CE1#32
  | 77 => 0x3E879C4B#32
  | 78 => 0x3FA7886C#32
  | 79 => 0xBE7B33E8#32
  | 80 => 0x3DA34B6D#32
  | 81 => 0xBEE81D26#32
  | 82 => 0x400E103B#32
  | 83 => 0x3DEB52A6#32
  | 84 => 0xBF96C5B0#32
  | 85 => 0x3F771FEB#32
  | 86 => 0xBEA1301E#32
  | 87 => 0xBFDF952A#32
  | 88 => 0xBF48EED3#32
  | 89 => 0xBDD70345#32
  | 90 => 0xBF64CCC9#32
  | 91 => 0x3FF006A7#32
  | 92 => 0xBEBA8A1D#32
  | 93 => 0x3F5C7BB0#32
  | 94 => 0x3F7B5753#32
  | 95 => 0xBEB99CA4#32
  | 96 => 0x3F9E58AB#32
  | 97 => 0x3F4F84C8#32
  | 98 => 0x3F95A5DA#32
  | 99 => 0x3F442E1A#32
  | 100 => 0xBFAAAA26#32
  | 101 => 0xBF0AB67C#32
  | 102 => 0xBE9A1098#32
  | 103 => 0x3F831301#32
  | 104 => 0xBF39FCB7#32
  | 105 => 0xBFBBD44B#32
  | 106 => 0xBF441FBB#32
  | 107 => 0x3EE2C346#32
  | 108 => 0xBD88BB29#32
  | 109 => 0x3DBCBDBA#32
  | 110 => 0xBFCB9EAF#32
  | 111 => 0x3FE682E5#32
  | 112 => 0xBF64C0AC#32
  | 113 => 0xBE67FFB6#32
  | 114 => 0x3E59A946#32
  | 115 => 0x3F4D9F93#32
  | 116 => 0x3E0AB2A6#32
  | 117 => 0x3EB5B451#32
  | 118 => 0x3F8AD789#32
  | 119 => 0xBEA1AC19#32
  | 120 => 0x3F961932#32
  | 121 => 0x3F85FA34#32
  | 122 => 0xBF366375#32
  | 123 => 0x3FBFB4BE#32
  | 124 => 0x3FD1BC3C#32
  | 125 => 0x3D43B4B0#32
  | 126 => 0xBECC6CD4#32
  | 127 => 0xBEB192AE#32
  | _ => 0#32

noncomputable abbrev lit0t0_458 (i : Nat) : BitVec 32 := match i % 128 with
  | 0 => 0xBF89F1C4#32
  | 1 => 0x3FAD02E5#32
  | 2 => 0xBED21324#32
  | 3 => 0x3FB57153#32
  | 4 => 0xBC25A3EE#32
  | 5 => 0xBEF6E4D0#32
  | 6 => 0xBF553F55#32
  | 7 => 0xBE9CFD34#32
  | 8 => 0x3FCC5EA8#32
  | 9 => 0x3F9CFD36#32
  | 10 => 0x4010B85E#32
  | 11 => 0xBCF98DB7#32
  | 12 => 0x3F99AC50#32
  | 13 => 0x3E04F10A#32
  | 14 => 0x401D300B#32
  | 15 => 0x4017F524#32
  | 16 => 0x3F225432#32
  | 17 => 0x3F854BC6#32
  | 18 => 0x3EA8D13D#32
  | 19 => 0xBE453AF6#32
  | 20 => 0x400F926B#32
  | 21 => 0xBF59C717#32
  | 22 => 0xBF190454#32
  | 23 => 0xBD952673#32
  | 24 => 0x3FC6D8F8#32
  | 25 => 0x403D3951#32
  | 26 => 0x3F588F33#32
  | 27 => 0xBF1C3188#32
  | 28 => 0x3FF0027E#32
  | 29 => 0x3EE74A34#32
  | 30 => 0xBEB67FD2#32
  | 31 => 0x400C4CDE#32
  | 32 => 0x3FC135DB#32
  | 33 => 0x3F0DE07F#32
  | 34 => 0x3FBD5623#32
  | 35 => 0x3F848F24#32
  | 36 => 0x3F64875B#32
  | 37 => 0xBF8A3A88#32
  | 38 => 0xBF82E68E#32
  | 39 => 0x3F6C8E9A#32
  | 40 => 0xBF4C8222#32
  | 41 => 0x3FB96119#32
  | 42 => 0xBEBF3943#32
  | 43 => 0xBF79B31E#32
  | 44 => 0xBF215EC6#32
  | 45 => 0x3DD7D83F#32
  | 46 => 0x3E93C0EE#32
  | 47 => 0xBDBEAD53#32
  | 48 => 0x3FD71E22#32
  | 49 => 0x404F2BF8#32
  | 50 => 0x3FFE3DEF#32
  | 51 => 0x3F67567D#32
  | 52 => 0xBCE7134B#32
  | 53 => 0x3F8AE2FE#32
  | 54 => 0x4041CA86#32
  | 55 => 0xBFBDC5DE#32
  | 56 => 0x3F373387#32
  | 57 => 0x3E64E2E6#32
  | 58 => 0x3F675192#32
  | 59 => 0x3E0B6854#32
  | 60 => 0x3F8A3C3C#32
  | 61 => 0x3FEE6271#32
  | 62 => 0x3FC51E24#32
  | 63 => 0xBF7857FC#32
  | 64 => 0x3F1074A6#32
  | 65 => 0xBF1A40C8#32
  | 66 => 0x3F6C58D1#32
  | 67 => 0x3F48FAF0#32
  | 68 => 0xBE103EA3#32
  | 69 => 0x3EDE2B5C#32
  | 70 => 0xBD02CBE5#32
  | 71 => 0xBE358778#32
  | 72 => 0xBF2C893F#32
  | 73 => 0x3F153651#32
  | 74 => 0x3EC92DB7#32
  | 75 => 0xBFAD36F2#32
  | 76 => 0x3F865EEC#32
  | 77 => 0x400F5E96#32
  | 78 => 0x400CED56#32
  | 79 => 0xBF816E51#32
  | 80 => 0xBE6BBED1#32
  | 81 => 0x3F54D7EF#32
  | 82 => 0xBE3DFE0D#32
  | 83 => 0xBEC2E7AA#32
  | 84 => 0x40AF11B8#32
  | 85 => 0xBEB15D55#32
  | 86 => 0x4026046C#32
  | 87 => 0x3DA364FB#32
  | 88 => 0x3FA685A8#32
  | 89 => 0x3F1E7FDE#32
  | 90 => 0xBE61C53D#32
  | 91 => 0xBB2E10C5#32
  | 92 => 0x3FF879E8#32
  | 93 => 0xBDA66CCF#32
  | 94 => 0x3F9DC124#32
  | 95 => 0xBEA31B29#32
  | 96 => 0xBE5C3233#32
  | 97 => 0xBF46332D#32
  | 98 => 0xBF233580#32
  | 99 => 0x3DC014A1#32
  | 100 => 0x3F6E59BD#32
  | 101 => 0xBF9DEEEB#32
  | 102 => 0xBEE137F8#32
  | 103 => 0x402A31D9#32
  | 104 => 0x3D7A7021#32
  | 105 => 0x3E85652E#32
  | 106 => 0x3D495A78#32
  | 107 => 0xBE136CB3#32
  | 108 => 0x3F78E0E3#32
  | 109 => 0x3E7C312C#32
  | 110 => 0x3F9B63D2#32
  | 111 => 0x3EA46F58#32
  | 112 => 0x3E77E125#32
  | 113 => 0xBE8B6608#32
  | 114 => 0xBF52EA94#32
  | 115 => 0x400FB7E4#32
  | 116 => 0x3EE9B6AC#32
  | 117 => 0xBE5013BB#32
  | 118 => 0x3F45990F#32
  | 119 => 0xBF80C4D5#32
  | 120 => 0x3F80CD75#32
  | 121 => 0x4003F7CE#32
  | 122 => 0xBF1C4448#32
  | 123 => 0x3F6C19A3#32
  | 124 => 0xBE8CF6F7#32
  | 125 => 0x3ED88B0C#32
  | 126 => 0xBE41F472#32
  | 127 => 0x4091D08D#32
  | _ => 0#32

noncomputable abbrev lit0t0_459 (i : Nat) : BitVec 32 := match i % 128 with
  | 0 => 0x3F813CC3#32
  | 1 => 0x3F665279#32
  | 2 => 0x400C5068#32
  | 3 => 0xBEE2CE54#32
  | 4 => 0x4069E146#32
  | 5 => 0x3FFC8E42#32
  | 6 => 0xBF1D3D9C#32
  | 7 => 0x3EE817C7#32
  | 8 => 0xBF8D4DDD#32
  | 9 => 0x3F8B7FBB#32
  | 10 => 0x3FB60A80#32
  | 11 => 0x3F1D2753#32
  | 12 => 0x3E4C52C7#32
  | 13 => 0x3FAB82CE#32
  | 14 => 0x3F5F460E#32
  | 15 => 0x3F917A86#32
  | 16 => 0x3D10C71E#32
  | 17 => 0x3EA246B5#32
  | 18 => 0x3F3A42B6#32
  | 19 => 0x3DC0C8A6#32
  | 20 => 0xBF4C76D6#32
  | 21 => 0xBF0DD3BA#32
  | 22 => 0x400CF356#32
  | 23 => 0xBF4033DE#32
  | 24 => 0xBF2C6F38#32
  | 25 => 0xBF5F4FCA#32
  | 26 => 0x3F522605#32
  | 27 => 0xBCE5E146#32
  | 28 => 0x3E5F4447#32
  | 29 => 0xBFB3D727#32
  | 30 => 0x3F9329E8#32
  | 31 => 0x3FEF2E83#32
  | 32 => 0xBF560DCD#32
  | 33 => 0xBEFE777A#32
  | 34 => 0x3FEEEA0E#32
  | 35 => 0xBF028689#32
  | 36 => 0xBFA461F6#32
  | 37 => 0x40058BB5#32
  | 38 => 0x3FFE571F#32
  | 39 => 0xBD9FA49C#32
  | 40 => 0xC006B567#32
  | 41 => 0x3FEB9DA5#32
  | 42 => 0x40263168#32
  | 43 => 0x3FF52E6E#32
  | 44 => 0x402141A9#32
  | 45 => 0x40258776#32
  | 46 => 0xBE283E31#32
  | 47 => 0xBDAB5F31#32
  | 48 => 0x3F76342F#32
  | 49 => 0xBF9B0F2C#32
  | 50 => 0x3F5825B9#32
  | 51 => 0x3EA2EA3B#32
  | 52 => 0x3FDA5DAE#32
  | 53 => 0x3F634B9E#32
  | 54 => 0xBD329A06#32
  | 55 => 0x3F64CAB2#32
  | 56 => 0x3FE6336F#32
  | 57 => 0x3DC85F5B#32
  | 58 => 0x3E3920A1#32
  | 59 => 0x3EC180FF#32
  | 60 => 0xBEB8B024#32
  | 61 => 0x3F4BAD7E#32
  | 62 => 0x3F453E92#32
  | 63 => 0x4045ED70#32
  | 64 => 0x3FBC7EF7#32
  | 65 => 0xBE3E53B2#32
  | 66 => 0x3F959F25#32
  | 67 => 0x407EA717#32
  | 68 => 0x3F049391#32
  | 69 => 0xBEE6C780#32
  | 70 => 0x3F886C94#32
  | 71 => 0xBE727470#32
  | 72 => 0xBEC46DF8#32
  | 73 => 0xBF9724B9#32
  | 74 => 0x3FA996C1#32
  | 75 => 0xBF3308F8#32
  | 76 => 0xBF282EDB#32
  | 77 => 0x3EA9743B#32
  | 78 => 0x3EB9E85B#32
  | 79 => 0x3F61398E#32
  | 80 => 0x3FF66687#32
  | 81 => 0xBF4AD4C6#32
  | 82 => 0x3CE7483E#32
  | 83 => 0x3FCA522C#32
  | 84 => 0x3EE57E60#32
  | 85 => 0xBF3596D8#32
  | 86 => 0x3FC41261#32
  | 87 => 0xBE0E89DB#32
  | 88 => 0x3FB00CDC#32
  | 89 => 0x3FC3D4FA#32
  | 90 => 0x407EC910#32
  | 91 => 0xBFCB0662#32
  | 92 => 0xBFA6F55A#32
  | 93 => 0x3F82CB2C#32
  | 94 => 0x3FC61C7B#32
  | 95 => 0xBE9D7D43#32
  | 96 => 0xBF70D447#32
  | 97 => 0x409621A5#32
  | 98 => 0xBEAEF688#32
  | 99 => 0xBF719110#32
  | 100 => 0x40319D6E#32
  | 101 => 0x3FEB9F1E#32
  | 102 => 0x3FA0B81F#32
  | 103 => 0x3FB6DBCE#32
  | 104 => 0xBFA9139B#32
  | 105 => 0xBEABEAF6#32
  | 106 => 0x400503AB#32
  | 107 => 0xBEEBBB94#32
  | 108 => 0x3FEF2F2A#32
  | 109 => 0xBEA618D0#32
  | 110 => 0x3F15E8E8#32
  | 111 => 0x3F8170A0#32
  | 112 => 0x3FA0131A#32
  | 113 => 0x3F8A79EA#32
  | 114 => 0x411462C1#32
  | 115 => 0x40B4700F#32
  | 116 => 0x3F40B0CE#32
  | 117 => 0x40029CA4#32
  | 118 => 0xBF05DF95#32
  | 119 => 0x3F5F6DB7#32
  | 120 => 0xBF760BDA#32
  | 121 => 0xBF63FBB8#32
  | 122 => 0xBF7665CC#32
  | 123 => 0x3EFD667A#32
  | 124 => 0xBE55F68E#32
  | 125 => 0x3E1848EA#32
  | 126 => 0x3FD69F38#32
  | 127 => 0x3F185CE3#32
  | _ => 0#32

noncomputable abbrev lit0t0_460 (i : Nat) : BitVec 32 := match i % 128 with
  | 0 => 0x3F25B936#32
  | 1 => 0x3F66DDBC#32
  | 2 => 0x3FDCC8B6#32
  | 3 => 0x3F454FA8#32
  | 4 => 0x3F7B4466#32
  | 5 => 0xBF7E4FA4#32
  | 6 => 0xBF65B9A7#32
  | 7 => 0xBF3FDA05#32
  | 8 => 0x3FAD5A14#32
  | 9 => 0x3E6C2965#32
  | 10 => 0x40B71175#32
  | 11 => 0x402D2755#32
  | 12 => 0xBE9397FE#32
  | 13 => 0x403BDD8B#32
  | 14 => 0x3FED5DA5#32
  | 15 => 0xBD62DAAE#32
  | 16 => 0xBDFFD3FA#32
  | 17 => 0xBF5DB68E#32
  | 18 => 0x3D544183#32
  | 19 => 0x3FE4DFB1#32
  | 20 => 0x40B2777A#32
  | 21 => 0xBE509FD6#32
  | 22 => 0x40427967#32
  | 23 => 0x3D83F083#32
  | 24 => 0x3F58B951#32
  | 25 => 0x3F42FCFA#32
  | 26 => 0x3EB92801#32
  | 27 => 0xBF877389#32
  | 28 => 0x3F41EEC6#32
  | 29 => 0x4030F5A9#32
  | 30 => 0x3FA525FA#32
  | 31 => 0x3F3D301E#32
  | 32 => 0x3FDBC4BE#32
  | 33 => 0x3F2ED0CC#32
  | 34 => 0x3F4F5982#32
  | 35 => 0x3FB55A68#32
  | 36 => 0x3F0D8863#32
  | 37 => 0xBEE9F1FC#32
  | 38 => 0xBEA2DEC5#32
  | 39 => 0xBF92BDDF#32
  | 40 => 0x3E798F3B#32
  | 41 => 0x400912E3#32
  | 42 => 0xBF3AA7D0#32
  | 43 => 0xBF7E004F#32
  | 44 => 0x40058622#32
  | 45 => 0xBF445395#32
  | 46 => 0xBF612815#32
  | 47 => 0x3F667AEE#32
  | 48 => 0xBECAE79C#32
  | 49 => 0x40133663#32
  | 50 => 0x40098F48#32
  | 51 => 0x3F244A9B#32
  | 52 => 0xBD050F2F#32
  | 53 => 0xBDEC8DD1#32
  | 54 => 0x3F9C3760#32
  | 55 => 0x4013863D#32
  | 56 => 0xBF5E59DC#32
  | 57 => 0x3E29A79C#32
  | 58 => 0xBF3826FE#32
  | 59 => 0xBF36DC87#32
  | 60 => 0xBDC270F2#32
  | 61 => 0x3EDF962D#32
  | 62 => 0x407B34D1#32
  | 63 => 0x3FC1B9BC#32
  | 64 => 0x3E883768#32
  | 65 => 0x3F1010A3#32
  | 66 => 0xBEEB0F21#32
  | 67 => 0x3F7292FC#32
  | 68 => 0x3DFB2AE6#32
  | 69 => 0x400F5818#32
  | 70 => 0xBD977232#32
  | 71 => 0x3FC87B8A#32
  | 72 => 0x3FA4B4B5#32
  | 73 => 0x3E9B5D05#32
  | 74 => 0x3FE9D65C#32
  | 75 => 0x3F847E4E#32
  | 76 => 0x3F0AF80B#32
  | 77 => 0x3E54EBAD#32
  | 78 => 0xBF083035#32
  | 79 => 0x3F4ADC54#32
  | 80 => 0x3F8630B6#32
  | 81 => 0xBE3C790A#32
  | 82 => 0xBF445B0D#32
  | 83 => 0x40CE2C60#32
  | 84 => 0xBE87BD4F#32
  | 85 => 0x3F8FDF20#32
  | 86 => 0x3F4477AE#32
  | 87 => 0x3FCE5CB5#32
  | 88 => 0x3F18D8FF#32
  | 89 => 0x3EF7EAA8#32
  | 90 => 0x3E994222#32
  | 91 => 0xBF657D21#32
  | 92 => 0x3F66B116#32
  | 93 => 0xBF653FF2#32
  | 94 => 0xBE2B69C2#32
  | 95 => 0x3E8D6745#32
  | 96 => 0x3F59F6AC#32
  | 97 => 0xBE668264#32
  | 98 => 0xBFB95CAD#32
  | 99 => 0xBED1692D#32
  | 100 => 0x3F87EA8A#32
  | 101 => 0xBF7DD943#32
  | 102 => 0xBF368AAE#32
  | 103 => 0xBDD70838#32
  | 104 => 0x3E2F4890#32
  | 105 => 0x3E555D23#32
  | 106 => 0x3F014230#32
  | 107 => 0x3FE4EB6C#32
  | 108 => 0x3E4C2B38#32
  | 109 => 0x3FD33BA0#32
  | 110 => 0x3E3F512A#32
  | 111 => 0x40094C18#32
  | 112 => 0xBF074AF3#32
  | 113 => 0x3FDC1AF6#32
  | 114 => 0x3F82DFA9#32
  | 115 => 0x3E9B1252#32
  | 116 => 0x3FC9A554#32
  | 117 => 0xBED1A71B#32
  | 118 => 0x3F010F90#32
  | 119 => 0x3D906245#32
  | 120 => 0xBFBD7D28#32
  | 121 => 0xBEF5913C#32
  | 122 => 0x3E0A4821#32
  | 123 => 0x3D465525#32
  | 124 => 0x3D14E51C#32
  | 125 => 0x3F6E9704#32
  | 126 => 0x3F9035ED#32
  | 127 => 0xBDD95CBE#32
  | _ => 0#32

noncomputable abbrev lit0t0_461 (i : Nat) : BitVec 32 := match i % 128 with
  | 0 => 0xBEC90914#32
  | 1 => 0xBF1AAA08#32
  | 2 => 0x3FE98488#32
  | 3 => 0x3E89B873#32
  | 4 => 0x3F031F66#32
  | 5 => 0x3E9B28A4#32
  | 6 => 0x4027D43A#32
  | 7 => 0xBF4B954E#32
  | 8 => 0x404A5023#32
  | 9 => 0x3E529787#32
  | 10 => 0xBE69CF76#32
  | 11 => 0xBAE1167F#32
  | 12 => 0xBE9670BF#32
  | 13 => 0x3F579D73#32
  | 14 => 0xC0009ECF#32
  | 15 => 0xBE863BB6#32
  | 16 => 0xBF493965#32
  | 17 => 0x3FAB2E34#32
  | 18 => 0x3EF7B537#32
  | 19 => 0x3F553FAB#32
  | 20 => 0x3DF4F90C#32
  | 21 => 0x407A5F8A#32
  | 22 => 0xBE98B023#32
  | 23 => 0x3EBD8209#32
  | 24 => 0xBF11CB07#32
  | 25 => 0xBEE1CCCE#32
  | 26 => 0x3F1A3CB1#32
  | 27 => 0x3F8E72EC#32
  | 28 => 0x3F4DCE91#32
  | 29 => 0x3FCA6704#32
  | 30 => 0x400246FD#32
  | 31 => 0x3F34D47C#32
  | 32 => 0x3FF3C77E#32
  | 33 => 0xBD9AFF61#32
  | 34 => 0xBE66DD18#32
  | 35 => 0xBEF5A593#32
  | 36 => 0x3FD9336C#32
  | 37 => 0xBF022D69#32
  | 38 => 0x3F55768E#32
  | 39 => 0x3FBD36E7#32
  | 40 => 0x400B57E5#32
  | 41 => 0xBF35775E#32
  | 42 => 0x3F5AB398#32
  | 43 => 0x3E616FF4#32
  | 44 => 0x40B00521#32
  | 45 => 0x3FADDC88#32
  | 46 => 0xBE9CEFF7#32
  | 47 => 0xBF939A08#32
  | 48 => 0x3EB734D2#32
  | 49 => 0xBF509A2E#32
  | 50 => 0x3EDE320A#32
  | 51 => 0xBF14002A#32
  | 52 => 0xBF359A66#32
  | 53 => 0x3F52487B#32
  | 54 => 0xBD99029D#32
  | 55 => 0xBF4E61EF#32
  | 56 => 0x40A18C30#32
  | 57 => 0xBFA7B2D2#32
  | 58 => 0x406005D6#32
  | 59 => 0x4084794F#32
  | 60 => 0x3FABDA57#32
  | 61 => 0x408C70CD#32
  | 62 => 0xBF820E77#32
  | 63 => 0x4067D7BD#32
  | 64 => 0x3FC1C0D6#32
  | 65 => 0xBF8EF514#32
  | 66 => 0xBF58421F#32
  | 67 => 0xBF923A19#32
  | 68 => 0x3F8E005A#32
  | 69 => 0xBE41AC51#32
  | 70 => 0xBF63B8CB#32
  | 71 => 0x3FC76964#32
  | 72 => 0x3E8CDF7A#32
  | 73 => 0xBDD028F5#32
  | 74 => 0xBFAB1C8B#32
  | 75 => 0x400B13E0#32
  | 76 => 0xBEF39F90#32
  | 77 => 0x3F31CC1C#32
  | 78 => 0x400283D6#32
  | 79 => 0x3F6BF740#32
  | 80 => 0x3F79DEAE#32
  | 81 => 0x3F6B6FF5#32
  | 82 => 0x3F97EF5E#32
  | 83 => 0xBF1C97F2#32
  | 84 => 0x3FDD4E18#32
  | 85 => 0xBF196E4D#32
  | 86 => 0x400F1EB6#32
  | 87 => 0xBF5652B6#32
  | 88 => 0x3E12C97C#32
  | 89 => 0x3DF9BCE5#32
  | 90 => 0x3F08DF7B#32
  | 91 => 0x3EC76070#32
  | 92 => 0xBF3DA0E9#32
  | 93 => 0xBD9146AE#32
  | 94 => 0x405E1CD8#32
  | 95 => 0x3FD5A123#32
  | 96 => 0x3F26CD09#32
  | 97 => 0x4008AC11#32
  | 98 => 0xBF130F52#32
  | 99 => 0x3ECAD65F#32
  | 100 => 0xBF1B7480#32
  | 101 => 0x4013FC17#32
  | 102 => 0x3FE4ED06#32
  | 103 => 0x402F96AB#32
  | 104 => 0xBEE08E82#32
  | 105 => 0x3F94062B#32
  | 106 => 0xBF3A152F#32
  | 107 => 0x3D111DD2#32
  | 108 => 0xBE9AAA7A#32
  | 109 => 0x3E033551#32
  | 110 => 0xBE8D30F8#32
  | 111 => 0x3E80EF73#32
  | 112 => 0x4004E436#32
  | 113 => 0xBF9B5FB2#32
  | 114 => 0xBFB8EE35#32
  | 115 => 0xBDB9BD79#32
  | 116 => 0xBF3232F9#32
  | 117 => 0x3E0FFD11#32
  | 118 => 0xBE80F119#32
  | 119 => 0xBFA45A98#32
  | 120 => 0x3FF9EDFB#32
  | 121 => 0x3F2032B7#32
  | 122 => 0xBF512ADB#32
  | 123 => 0x3F76D1CE#32
  | 124 => 0xBEE73600#32
  | 125 => 0xBEF30227#32
  | 126 => 0xBF695B55#32
  | 127 => 0x3FBDE992#32
  | _ => 0#32

noncomputable abbrev lit0t0_462 (i : Nat) : BitVec 32 := match i % 128 with
  | 0 => 0x3DFEF650#32
  | 1 => 0x4027FE7E#32
  | 2 => 0xBE8CB3F9#32
  | 3 => 0xBED28775#32
  | 4 => 0xBF0A2AB3#32
  | 5 => 0xBDC079F7#32
  | 6 => 0x3FEBDA63#32
  | 7 => 0xBF79EF40#32
  | 8 => 0xBEDCE47E#32
  | 9 => 0xBEB8CA27#32
  | 10 => 0x3F975DE5#32
  | 11 => 0x3EEEF8B0#32
  | 12 => 0xBEF72AD9#32
  | 13 => 0xBEE3425C#32
  | 14 => 0xBEEB3C5C#32
  | 15 => 0x3E17CAA6#32
  | 16 => 0x3EDBEC45#32
  | 17 => 0x3EF6AB64#32
  | 18 => 0xBEFB3F6C#32
  | 19 => 0x408E065A#32
  | 20 => 0xBF8E9422#32
  | 21 => 0xBFCE9E38#32
  | 22 => 0x3FF59692#32
  | 23 => 0x3E88C97C#32
  | 24 => 0x3E6D3660#32
  | 25 => 0x3D35386E#32
  | 26 => 0xBFA2F2EC#32
  | 27 => 0xBEE7F5F8#32
  | 28 => 0x3F5382C0#32
  | 29 => 0x4024E442#32
  | 30 => 0x40557AE4#32
  | 31 => 0x403A9E3C#32
  | 32 => 0xBE630244#32
  | 33 => 0x40195A1B#32
  | 34 => 0x3F37C2EA#32
  | 35 => 0x3F47ED3A#32
  | 36 => 0xBE9302CB#32
  | 37 => 0xBF8D39CA#32
  | 38 => 0xBF28FC56#32
  | 39 => 0x3DC11515#32
  | 40 => 0x3EBB4F39#32
  | 41 => 0x3FDF203E#32
  | 42 => 0x3F140D60#32
  | 43 => 0x4017DCFA#32
  | 44 => 0xBF838354#32
  | 45 => 0x3F829DCE#32
  | 46 => 0x3F897AC0#32
  | 47 => 0x4010036B#32
  | 48 => 0x3FA58E6E#32
  | 49 => 0xBF42CFB2#32
  | 50 => 0x3F043BCB#32
  | 51 => 0x3F4BFD24#32
  | 52 => 0xBECC91D6#32
  | 53 => 0x3E71387D#32
  | 54 => 0xBCCF6769#32
  | 55 => 0x3F1C31CF#32
  | 56 => 0x3FADE495#32
  | 57 => 0x3DA553BA#32
  | 58 => 0x3DA76FD7#32
  | 59 => 0x3EEB14BC#32
  | 60 => 0x40696293#32
  | 61 => 0x3ECC0312#32
  | 62 => 0x3F9F498D#32
  | 63 => 0xBF23420B#32
  | 64 => 0xBF1B0C86#32
  | 65 => 0x3F2EE635#32
  | 66 => 0x3F31BCB9#32
  | 67 => 0xBFBD124E#32
  | 68 => 0x3EFE17A0#32
  | 69 => 0xBEA736E2#32
  | 70 => 0x3F7004E0#32
  | 71 => 0xBDCE2089#32
  | 72 => 0xBFB8930D#32
  | 73 => 0x3F006A9F#32
  | 74 => 0x3F8937AA#32
  | 75 => 0x3EA29748#32
  | 76 => 0x403F2F45#32
  | 77 => 0x3F2B5457#32
  | 78 => 0x3F0558E1#32
  | 79 => 0x41063722#32
  | 80 => 0x40112B6A#32
  | 81 => 0xBEE0D465#32
  | 82 => 0xBE11FB8E#32
  | 83 => 0x3EC67D74#32
  | 84 => 0xBEEBEE84#32
  | 85 => 0xBE439118#32
  | 86 => 0x3F4F566B#32
  | 87 => 0x40351587#32
  | 88 => 0xBD1B812B#32
  | 89 => 0x3F63ADE0#32
  | 90 => 0xBE7A83DE#32
  | 91 => 0x400A1AAA#32
  | 92 => 0xBEF6B1D8#32
  | 93 => 0x40397ABE#32
  | 94 => 0xBF7C8E48#32
  | 95 => 0xBE3B8D33#32
  | 96 => 0x3DD27E92#32
  | 97 => 0x3F2E6AEE#32
  | 98 => 0x3F39883E#32
  | 99 => 0xBE9CA555#32
  | 100 => 0xBFEC75EC#32
  | 101 => 0x3F941F4B#32
  | 102 => 0x3FA5929B#32
  | 103 => 0x3F63CF66#32
  | 104 => 0xBE08164C#32
  | 105 => 0x40878A7A#32
  | 106 => 0x3FA1EE65#32
  | 107 => 0x402356D1#32
  | 108 => 0xBF1DB7AB#32
  | 109 => 0x3E897FD1#32
  | 110 => 0x3DC66C9E#32
  | 111 => 0x3DF5A2EA#32
  | 112 => 0x3F72EEEE#32
  | 113 => 0xBCCA6CF1#32
  | 114 => 0x3F290BB9#32
  | 115 => 0x3F7B9621#32
  | 116 => 0x3F16ACC5#32
  | 117 => 0xBDD923DC#32
  | 118 => 0xBF5DC6AA#32
  | 119 => 0x3F3AAA3B#32
  | 120 => 0x3ED281CA#32
  | 121 => 0x3F7A9F03#32
  | 122 => 0xBF383B8C#32
  | 123 => 0xBF08286E#32
  | 124 => 0x3D39C091#32
  | 125 => 0x3F28DEA2#32
  | 126 => 0xBF5C32B7#32
  | 127 => 0x3FECD6F2#32
  | _ => 0#32

noncomputable abbrev lit0t0_463 (i : Nat) : BitVec 32 := match i % 128 with
  | 0 => 0xBD320974#32
  | 1 => 0x3FA1B66E#32
  | 2 => 0x4054D153#32
  | 3 => 0x3F45A792#32
  | 4 => 0x3D90BA22#32
  | 5 => 0x3E21CDAF#32
  | 6 => 0xBF14204C#32
  | 7 => 0xBF2C1811#32
  | 8 => 0xBEF8CBA9#32
  | 9 => 0xBF24710D#32
  | 10 => 0x3ECF4A40#32
  | 11 => 0x3F069C29#32
  | 12 => 0x3F61D451#32
  | 13 => 0x3F9F72B2#32
  | 14 => 0x3FA0A2E8#32
  | 15 => 0xBE48D7A3#32
  | 16 => 0x3E83028C#32
  | 17 => 0x403D03C8#32
  | 18 => 0xBF8D80C8#32
  | 19 => 0x3EEA3298#32
  | 20 => 0x40D86E61#32
  | 21 => 0x3EC0797A#32
  | 22 => 0xBF63B915#32
  | 23 => 0x4048AB90#32
  | 24 => 0x3F8EF374#32
  | 25 => 0xBFE56ADC#32
  | 26 => 0xBDCF4C9B#32
  | 27 => 0x400AFC83#32
  | 28 => 0xBFA742E9#32
  | 29 => 0x3F4A38BA#32
  | 30 => 0x3F1F46B6#32
  | 31 => 0xBE2E27E4#32
  | 32 => 0xBF6B9FC0#32
  | 33 => 0x3FB65EAA#32
  | 34 => 0x3E46FF60#32
  | 35 => 0xBF3E6FBD#32
  | 36 => 0xBF11D1D6#32
  | 37 => 0xBE1C7775#32
  | 38 => 0xBDFAA087#32
  | 39 => 0xBF44BA52#32
  | 40 => 0x403656FD#32
  | 41 => 0xBF873A9C#32
  | 42 => 0x3CAE7F49#32
  | 43 => 0x3ECA8983#32
  | 44 => 0x401185D3#32
  | 45 => 0xBD8B505F#32
  | 46 => 0xBE850B39#32
  | 47 => 0x3FA7A435#32
  | 48 => 0x3D94D429#32
  | 49 => 0x401B4D8E#32
  | 50 => 0xBF468D69#32
  | 51 => 0x3E885D72#32
  | 52 => 0x3EBD11C2#32
  | 53 => 0xBF964198#32
  | 54 => 0x3FB06185#32
  | 55 => 0x3F878F20#32
  | 56 => 0xBF407D95#32
  | 57 => 0x3EA9A86F#32
  | 58 => 0x4003A6EF#32
  | 59 => 0x3EAE5B41#32
  | 60 => 0x3FA273D3#32
  | 61 => 0x407761E8#32
  | 62 => 0xBF893593#32
  | 63 => 0x3EEABE5C#32
  | 64 => 0x3FF3794A#32
  | 65 => 0x3F02ED57#32
  | 66 => 0x3F5FE87E#32
  | 67 => 0x3E91CA7E#32
  | 68 => 0x3EE16940#32
  | 69 => 0x3E117807#32
  | 70 => 0x3F8DEF2C#32
  | 71 => 0x3FA822DE#32
  | 72 => 0xBE964D8F#32
  | 73 => 0x3FB4D123#32
  | 74 => 0x3FC8DED8#32
  | 75 => 0xBEE5C1B0#32
  | 76 => 0x4017CB7B#32
  | 77 => 0x3FED02C4#32
  | 78 => 0x3FB8A590#32
  | 79 => 0xBF82EA4A#32
  | 80 => 0xBEF6FFE8#32
  | 81 => 0x3F82B099#32
  | 82 => 0xBF654BF2#32
  | 83 => 0xBF57385B#32
  | 84 => 0xBDD578E3#32
  | 85 => 0x3F3C487E#32
  | 86 => 0x3F64A511#32
  | 87 => 0xBF96D680#32
  | 88 => 0x3F728F3E#32
  | 89 => 0x40002D39#32
  | 90 => 0x3F03B386#32
  | 91 => 0xBCB3A933#32
  | 92 => 0xBED5E9B8#32
  | 93 => 0x3DCC048D#32
  | 94 => 0x3E6351CE#32
  | 95 => 0xBD62E553#32
  | 96 => 0x40456197#32
  | 97 => 0x3F1FE899#32
  | 98 => 0x3FA81157#32
  | 99 => 0xBFD7FE69#32
  | 100 => 0x400F0B03#32
  | 101 => 0xBFAF059D#32
  | 102 => 0x3EFC7E39#32
  | 103 => 0xBEA8E818#32
  | 104 => 0x3E9DC0E7#32
  | 105 => 0x3F5B8AC3#32
  | 106 => 0x3EA4FAF2#32
  | 107 => 0x3F2FF749#32
  | 108 => 0xBF3B4DB0#32
  | 109 => 0xBF59469D#32
  | 110 => 0x3E93F02E#32
  | 111 => 0x3F1378DC#32
  | 112 => 0xBFAC6DD3#32
  | 113 => 0x3E98DC72#32
  | 114 => 0x3FAB9360#32
  | 115 => 0x4081A366#32
  | 116 => 0x403A6F2A#32
  | 117 => 0x3F52051A#32
  | 118 => 0x3F23186C#32
  | 119 => 0x3F41D20B#32
  | 120 => 0x40222024#32
  | 121 => 0x3F63DB64#32
  | 122 => 0x3F5217B6#32
  | 123 => 0x3DEE240E#32
  | 124 => 0x3FA1D058#32
  | 125 => 0xBF53D4D2#32
  | 126 => 0x3CB51392#32
  | 127 => 0x40319EE5#32
  | _ => 0#32

noncomputable abbrev lit0t0_464 (i : Nat) : BitVec 32 := match i % 128 with
  | 0 => 0x3F95BA2B#32
  | 1 => 0x3F0DE3BC#32
  | 2 => 0xBD993FEA#32
  | 3 => 0x3F765350#32
  | 4 => 0xBD30C5A9#32
  | 5 => 0xBFB012D8#32
  | 6 => 0x3E5E26D8#32
  | 7 => 0x406AD2A4#32
  | 8 => 0xBF064862#32
  | 9 => 0x3FC2B1BE#32
  | 10 => 0xBD720686#32
  | 11 => 0xBF25883A#32
  | 12 => 0xBE987BF1#32
  | 13 => 0xBF4FF54F#32
  | 14 => 0x3E7D1F10#32
  | 15 => 0x40071CE8#32
  | 16 => 0x3E349A57#32
  | 17 => 0xBEF7AE51#32
  | 18 => 0x40315C4A#32
  | 19 => 0x3EDD6575#32
  | 20 => 0x3FD4C102#32
  | 21 => 0x3F24C97F#32
  | 22 => 0xBF5E5376#32
  | 23 => 0xBFA50130#32
  | 24 => 0x3EA6B7D1#32
  | 25 => 0xBFD67F00#32
  | 26 => 0xBEC7BA00#32
  | 27 => 0x3E82007C#32
  | 28 => 0x3E5AFC72#32
  | 29 => 0x401804D5#32
  | 30 => 0x3F652309#32
  | 31 => 0xBD8334C6#32
  | 32 => 0x3E173BFB#32
  | 33 => 0x3F53DDB3#32
  | 34 => 0x3F35F045#32
  | 35 => 0x4007243A#32
  | 36 => 0xBFD7AE3A#32
  | 37 => 0x4016947F#32
  | 38 => 0xBF175EC0#32
  | 39 => 0x3FC6236F#32
  | 40 => 0x3F1B5549#32
  | 41 => 0xBF287874#32
  | 42 => 0x3F2D3117#32
  | 43 => 0x3F0D77D9#32
  | 44 => 0x3F982519#32
  | 45 => 0xBF41BAE7#32
  | 46 => 0xBEAAD14A#32
  | 47 => 0x3F92938C#32
  | 48 => 0xBEF86B68#32
  | 49 => 0x3FAD433B#32
  | 50 => 0x3FB0E61C#32
  | 51 => 0xBED997B7#32
  | 52 => 0xBF545094#32
  | 53 => 0xBE886C9F#32
  | 54 => 0xBE4C8F6B#32
  | 55 => 0x3F19C23A#32
  | 56 => 0x40895340#32
  | 57 => 0xBF5FF790#32
  | 58 => 0xBF1F32D5#32
  | 59 => 0x3FF72D06#32
  | 60 => 0x3F8D8C0E#32
  | 61 => 0x400A7992#32
  | 62 => 0x404D1A46#32
  | 63 => 0x4047683B#32
  | 64 => 0x3E93C1B9#32
  | 65 => 0xBF5E1C86#32
  | 66 => 0x3FDD3FAA#32
  | 67 => 0x3E862465#32
  | 68 => 0xBF887BAA#32
  | 69 => 0x3E56B727#32
  | 70 => 0x4054781A#32
  | 71 => 0xBD972486#32
  | 72 => 0x3F3D9E9E#32
  | 73 => 0xBCB749A6#32
  | 74 => 0x3F4597F5#32
  | 75 => 0x3EFD6B00#32
  | 76 => 0xBEDFF4EE#32
  | 77 => 0x41407C5A#32
  | 78 => 0xBFB87D03#32
  | 79 => 0x3F82EA56#32
  | 80 => 0xBEE84D4A#32
  | 81 => 0xBFFF4DC2#32
  | 82 => 0xBEBAD1B3#32
  | 83 => 0x401BF13B#32
  | 84 => 0x3FB77F8D#32
  | 85 => 0xBDE0C6FE#32
  | 86 => 0x3F61D2FA#32
  | 87 => 0xBF44E570#32
  | 88 => 0x3F854568#32
  | 89 => 0x3F9EB476#32
  | 90 => 0x40980912#32
  | 91 => 0x3FF55819#32
  | 92 => 0xBEAC0B2D#32
  | 93 => 0x3EADF388#32
  | 94 => 0x3E9F915F#32
  | 95 => 0x3F737610#32
  | 96 => 0x3EED13C6#32
  | 97 => 0x3EFC2F44#32
  | 98 => 0x4023FDBF#32
  | 99 => 0x3DE72E0B#32
  | 100 => 0xBF020EE9#32
  | 101 => 0x3DB946DD#32
  | 102 => 0x3FC1D6C2#32
  | 103 => 0xBECED146#32
  | 104 => 0x4012077F#32
  | 105 => 0x3EB5853B#32
  | 106 => 0x3EDC2BB1#32
  | 107 => 0x407E2963#32
  | 108 => 0xBF1E3ED4#32
  | 109 => 0x3F2FD8B0#32
  | 110 => 0x3E04AE28#32
  | 111 => 0x3D650FE7#32
  | 112 => 0x3F065875#32
  | 113 => 0x3FB53AAE#32
  | 114 => 0x3E9A4E89#32
  | 115 => 0xBE44A6A2#32
  | 116 => 0xBDA1BBA2#32
  | 117 => 0x3FBAF5C4#32
  | 118 => 0x3ED64688#32
  | 119 => 0x3F018C75#32
  | 120 => 0xBFB51F64#32
  | 121 => 0x3EF1C063#32
  | 122 => 0x3E70BF2C#32
  | 123 => 0xBF75857A#32
  | 124 => 0xBF1DB5EC#32
  | 125 => 0x3F8BBD2E#32
  | 126 => 0x401630D9#32
  | 127 => 0xBF26714D#32
  | _ => 0#32

noncomputable abbrev lit0t0_465 (i : Nat) : BitVec 32 := match i % 128 with
  | 0 => 0x3F78EC10#32
  | 1 => 0x3DD11204#32
  | 2 => 0x3FA45497#32
  | 3 => 0x3FE0C6FA#32
  | 4 => 0x3F909DC3#32
  | 5 => 0x3FE7A5C2#32
  | 6 => 0x3F724844#32
  | 7 => 0x3FBBC447#32
  | 8 => 0x3F918E7D#32
  | 9 => 0x3F307852#32
  | 10 => 0x3FCE0FD8#32
  | 11 => 0x3EBD220F#32
  | 12 => 0xBEFA0956#32
  | 13 => 0xBF8AFAA2#32
  | 14 => 0x402A50BB#32
  | 15 => 0xBF13C835#32
  | 16 => 0x3FBAEBC5#32
  | 17 => 0xBDC78C61#32
  | 18 => 0x3F480160#32
  | 19 => 0xBF60E4CB#32
  | 20 => 0x3F5027E1#32
  | 21 => 0x3F2C8483#32
  | 22 => 0xBEA5A1AF#32
  | 23 => 0x3F24C5D8#32
  | 24 => 0x3EB9D69C#32
  | 25 => 0xBE00C5D9#32
  | 26 => 0x402EAB1F#32
  | 27 => 0x40B982D8#32
  | 28 => 0x3E6F59D3#32
  | 29 => 0x3FCD246B#32
  | 30 => 0xBECD7634#32
  | 31 => 0xBDF59C5C#32
  | 32 => 0x3FF72C8E#32
  | 33 => 0x407D0617#32
  | 34 => 0x40542BD3#32
  | 35 => 0x3F5BE490#32
  | 36 => 0x400A6817#32
  | 37 => 0x3CB00360#32
  | 38 => 0x3F3F6421#32
  | 39 => 0x3F24CA9B#32
  | 40 => 0xBD332889#32
  | 41 => 0x40A362FB#32
  | 42 => 0xBE863715#32
  | 43 => 0xBCD4C7E7#32
  | 44 => 0x3FD72103#32
  | 45 => 0x3F0C8E0F#32
  | 46 => 0xBFB030E4#32
  | 47 => 0x3F8ECDE7#32
  | 48 => 0x3DDAD3FD#32
  | 49 => 0x3F5C66F4#32
  | 50 => 0x3EF5406A#32
  | 51 => 0x402A6C3D#32
  | 52 => 0x3FFAAE2C#32
  | 53 => 0xBE87B76F#32
  | 54 => 0x3D5B1E3F#32
  | 55 => 0x3FDFD364#32
  | 56 => 0x4002C64D#32
  | 57 => 0xBF2B8FD0#32
  | 58 => 0x400904E2#32
  | 59 => 0x3FF047C6#32
  | 60 => 0x3F1529A0#32
  | 61 => 0x3F3E2585#32
  | 62 => 0xBECED3FA#32
  | 63 => 0x3F8D0302#32
  | 64 => 0x3DFBBA23#32
  | 65 => 0x400A8539#32
  | 66 => 0x3FD7121B#32
  | 67 => 0x40581B3F#32
  | 68 => 0x3FC86CA1#32
  | 69 => 0xBF1B444F#32
  | 70 => 0x3F561C6D#32
  | 71 => 0xBEF7C8E6#32
  | 72 => 0xBEB77101#32
  | 73 => 0x401F96E3#32
  | 74 => 0x3F797F22#32
  | 75 => 0x3EF68CE6#32
  | 76 => 0x3F839580#32
  | 77 => 0x3FA9908C#32
  | 78 => 0xBE9ED690#32
  | 79 => 0xBDE8BA10#32
  | 80 => 0x40289D4A#32
  | 81 => 0xBF0085F6#32
  | 82 => 0x3E75C424#32
  | 83 => 0xBE11A862#32
  | 84 => 0x3F405EC8#32
  | 85 => 0x3F8BB0F9#32
  | 86 => 0x3ECA616D#32
  | 87 => 0xBE28028E#32
  | 88 => 0x3F93D275#32
  | 89 => 0xBF107E79#32
  | 90 => 0xBC8945EA#32
  | 91 => 0xBF6D319C#32
  | 92 => 0xBF9DEADC#32
  | 93 => 0x3E91995B#32
  | 94 => 0x3F844EF3#32
  | 95 => 0xBF8381BB#32
  | 96 => 0x3E8CF3E0#32
  | 97 => 0xBE39FE59#32
  | 98 => 0xBEDD21EB#32
  | 99 => 0xBEB4FEA1#32
  | 100 => 0xBF8F7938#32
  | 101 => 0x4041C1FA#32
  | 102 => 0xBE2DC62C#32
  | 103 => 0xBF5C3CFA#32
  | 104 => 0xBE3FBAD3#32
  | 105 => 0xBFC1F115#32
  | 106 => 0x3FCC71FF#32
  | 107 => 0xBF09AF5B#32
  | 108 => 0xBF2C98F1#32
  | 109 => 0x3EC46396#32
  | 110 => 0x3F059891#32
  | 111 => 0xBFAB9B68#32
  | 112 => 0x3F6EF354#32
  | 113 => 0x3FD2CCC5#32
  | 114 => 0x400962FA#32
  | 115 => 0xBE05C832#32
  | 116 => 0x401A4A8A#32
  | 117 => 0x3FAD2286#32
  | 118 => 0x40B0F398#32
  | 119 => 0x3F892AB2#32
  | 120 => 0x3E064549#32
  | 121 => 0x3E143ED8#32
  | 122 => 0x3F00CB5C#32
  | 123 => 0xBDBFCAB4#32
  | 124 => 0x3F8D753C#32
  | 125 => 0xBF74F344#32
  | 126 => 0xBFB0F9DE#32
  | 127 => 0xBF0088BA#32
  | _ => 0#32

noncomputable abbrev lit0t0_466 (i : Nat) : BitVec 32 := match i % 128 with
  | 0 => 0xBFA2EEAF#32
  | 1 => 0x3D7BE599#32
  | 2 => 0x3FC8B085#32
  | 3 => 0x3F334119#32
  | 4 => 0xBE222A0B#32
  | 5 => 0x40155561#32
  | 6 => 0x3E2A86DB#32
  | 7 => 0x3F1D4978#32
  | 8 => 0x40209CA2#32
  | 9 => 0x3FDDE3F0#32
  | 10 => 0xBD94027C#32
  | 11 => 0xBE7617FA#32
  | 12 => 0xBF57A67C#32
  | 13 => 0x3F70948F#32
  | 14 => 0x402DC00D#32
  | 15 => 0xBE9B15AD#32
  | 16 => 0x3FCC8652#32
  | 17 => 0xBFA8BD0B#32
  | 18 => 0x3FC50C6C#32
  | 19 => 0x40395B49#32
  | 20 => 0x3FA6A31C#32
  | 21 => 0x3F432179#32
  | 22 => 0x3F1B9042#32
  | 23 => 0xBF5F90FE#32
  | 24 => 0x3D162C36#32
  | 25 => 0x3D23312C#32
  | 26 => 0x401A07CA#32
  | 27 => 0x3E87EF5F#32
  | 28 => 0xBDCAD8B8#32
  | 29 => 0x3ECA0E44#32
  | 30 => 0xBFA19BDE#32
  | 31 => 0xBEC9C986#32
  | 32 => 0x3F84F691#32
  | 33 => 0x3FD88A49#32
  | 34 => 0x404B965A#32
  | 35 => 0x40027E7C#32
  | 36 => 0x3E9E84C6#32
  | 37 => 0x3CD2A14D#32
  | 38 => 0xBE941E36#32
  | 39 => 0xBFB2A4D7#32
  | 40 => 0x3FBEF88F#32
  | 41 => 0x3FBB4304#32
  | 42 => 0x3CCF2203#32
  | 43 => 0xBFA1557C#32
  | 44 => 0xBF39B2C0#32
  | 45 => 0x3E84BCE6#32
  | 46 => 0xBE9B6B9F#32
  | 47 => 0xBE42B51E#32
  | 48 => 0x3F53A5B4#32
  | 49 => 0xBF8EBA14#32
  | 50 => 0xBE4F7491#32
  | 51 => 0xBE4BBCA3#32
  | 52 => 0xBFB4A996#32
  | 53 => 0x3F0ED9D2#32
  | 54 => 0xBE5A207E#32
  | 55 => 0xBEC1C4A4#32
  | 56 => 0x3D96BC01#32
  | 57 => 0x3E692C78#32
  | 58 => 0x3FF71FB3#32
  | 59 => 0xBF616E8A#32
  | 60 => 0x3D8B36C4#32
  | 61 => 0x3F043FBE#32
  | 62 => 0xBEBE914C#32
  | 63 => 0x3E60AFF5#32
  | 64 => 0x3E36DBFF#32
  | 65 => 0xBF88A190#32
  | 66 => 0xBF67B91E#32
  | 67 => 0x3EDB7733#32
  | 68 => 0xBE718C38#32
  | 69 => 0x3F8D847B#32
  | 70 => 0x3FCB6F3C#32
  | 71 => 0xBEE06A50#32
  | 72 => 0xBDD45D53#32
  | 73 => 0x3F846495#32
  | 74 => 0x3F759652#32
  | 75 => 0x3F129888#32
  | 76 => 0x3EAFE529#32
  | 77 => 0x4025A77D#32
  | 78 => 0x3E9E01E6#32
  | 79 => 0xBF32D227#32
  | 80 => 0x408C5074#32
  | 81 => 0x3EC1512C#32
  | 82 => 0xBEAD7D22#32
  | 83 => 0xBF0E7D53#32
  | 84 => 0xBDA1AF28#32
  | 85 => 0x3E8DFA94#32
  | 86 => 0x3ED7D2B7#32
  | 87 => 0x401CB96C#32
  | 88 => 0x3E52D165#32
  | 89 => 0x3F8177CC#32
  | 90 => 0x3F3F9CC8#32
  | 91 => 0xBEC58CB3#32
  | 92 => 0x3F9DF4FA#32
  | 93 => 0x3C7DA17B#32
  | 94 => 0x3E857516#32
  | 95 => 0x3F467CE3#32
  | 96 => 0xBF6FE7BB#32
  | 97 => 0x40195026#32
  | 98 => 0x3E5F186C#32
  | 99 => 0x3F84DF3D#32
  | 100 => 0x40894E67#32
  | 101 => 0x3F4230EB#32
  | 102 => 0x3F263C11#32
  | 103 => 0x3FA07126#32
  | 104 => 0xB897BE98#32
  | 105 => 0x3F1482F2#32
  | 106 => 0xBF0D333B#32
  | 107 => 0x3F95A16D#32
  | 108 => 0x3E689942#32
  | 109 => 0x3F8C1230#32
  | 110 => 0xBEAB790C#32
  | 111 => 0x3EB3B690#32
  | 112 => 0x3F3D916B#32
  | 113 => 0x3EE8A888#32
  | 114 => 0xBFCE51C1#32
  | 115 => 0xBFA07F8D#32
  | 116 => 0x3EA9A6EC#32
  | 117 => 0xBF35EAFF#32
  | 118 => 0x3F8A30C4#32
  | 119 => 0x3FDF24BD#32
  | 120 => 0xBF791EE6#32
  | 121 => 0xBD2079A1#32
  | 122 => 0xBF0AB63C#32
  | 123 => 0xBF0D92AA#32
  | 124 => 0xBED88BEA#32
  | 125 => 0x400823B2#32
  | 126 => 0xBF2DF291#32
  | 127 => 0x3DCA97E8#32
  | _ => 0#32

noncomputable abbrev lit0t0_467 (i : Nat) : BitVec 32 := match i % 128 with
  | 0 => 0xBF98DEC3#32
  | 1 => 0xBDA3CBA4#32
  | 2 => 0x3DE350BF#32
  | 3 => 0xBF8A5948#32
  | 4 => 0x3F461A0B#32
  | 5 => 0x40231701#32
  | 6 => 0x3E26F78A#32
  | 7 => 0x3FFD2119#32
  | 8 => 0xBEEC7B9D#32
  | 9 => 0xBF1919C6#32
  | 10 => 0xBF0D8B75#32
  | 11 => 0xBEF6E15B#32
  | 12 => 0x401E1780#32
  | 13 => 0x3EF88FCE#32
  | 14 => 0x3FCF05CE#32
  | 15 => 0x3FAB77FC#32
  | 16 => 0x3F869711#32
  | 17 => 0xBFA38FCC#32
  | 18 => 0x3DEC573E#32
  | 19 => 0x3D579D00#32
  | 20 => 0x3FBFDD31#32
  | 21 => 0xBDB2D551#32
  | 22 => 0x3F82B6F5#32
  | 23 => 0x3D2DEDFF#32
  | 24 => 0x3E01873B#32
  | 25 => 0x3EAD9F23#32
  | 26 => 0x40121AA8#32
  | 27 => 0xBEF9C79A#32
  | 28 => 0xBEFE2CF8#32
  | 29 => 0x3F0E2E3E#32
  | 30 => 0x3EB53313#32
  | 31 => 0x3F8F90DE#32
  | 32 => 0x400B2C81#32
  | 33 => 0x3F0176E2#32
  | 34 => 0x403B5F31#32
  | 35 => 0xBFA4405C#32
  | 36 => 0xBE49FED8#32
  | 37 => 0x3F063C4E#32
  | 38 => 0x3EDB85C8#32
  | 39 => 0x3FDDD696#32
  | 40 => 0xBFF85F42#32
  | 41 => 0x3F6DF9DB#32
  | 42 => 0xBE2C56C9#32
  | 43 => 0x3F191C86#32
  | 44 => 0x40CC7423#32
  | 45 => 0xBF709612#32
  | 46 => 0xBF0FAB41#32
  | 47 => 0x3DC992BE#32
  | 48 => 0x3E1882C6#32
  | 49 => 0xBEC3CF60#32
  | 50 => 0xBF8D98A9#32
  | 51 => 0xBFD72EDC#32
  | 52 => 0xBFFAD962#32
  | 53 => 0x3F5CF0B3#32
  | 54 => 0xBF639381#32
  | 55 => 0x3E0FDE75#32
  | 56 => 0xBCF07CB0#32
  | 57 => 0xBE9580D6#32
  | 58 => 0xBEA37D1E#32
  | 59 => 0x3FD722D5#32
  | 60 => 0x3FF10813#32
  | 61 => 0xBF06F878#32
  | 62 => 0x3F7A2537#32
  | 63 => 0x3DF99FCE#32
  | 64 => 0xBF188A0E#32
  | 65 => 0x3F260C5F#32
  | 66 => 0xBEBB772E#32
  | 67 => 0x3FF92263#32
  | 68 => 0xBF928BF7#32
  | 69 => 0x3FAC8E31#32
  | 70 => 0xBF0E2FCC#32
  | 71 => 0x40A42007#32
  | 72 => 0xBE12E8E2#32
  | 73 => 0x3FE828CA#32
  | 74 => 0x3F8C4350#32
  | 75 => 0xBF7260A8#32
  | 76 => 0x4013FE1D#32
  | 77 => 0x3E1767DA#32
  | 78 => 0xBF151FFD#32
  | 79 => 0x3DBC7383#32
  | 80 => 0x402B255A#32
  | 81 => 0x3EE97EDE#32
  | 82 => 0xBED1C0A6#32
  | 83 => 0x40663C22#32
  | 84 => 0xBE99DF63#32
  | 85 => 0x3F54DB34#32
  | 86 => 0x3C95943A#32
  | 87 => 0x3EFBA45D#32
  | 88 => 0x40006939#32
  | 89 => 0x3E1E4531#32
  | 90 => 0x3F42D87A#32
  | 91 => 0x3DB501A1#32
  | 92 => 0xBF67F332#32
  | 93 => 0x400499FF#32
  | 94 => 0x3F6DDC76#32
  | 95 => 0x3F15D490#32
  | 96 => 0x3E64A1B0#32
  | 97 => 0x3FE1DE68#32
  | 98 => 0x3E176286#32
  | 99 => 0x3CC627DC#32
  | 100 => 0x3F89E199#32
  | 101 => 0xBF84968F#32
  | 102 => 0x407365BC#32
  | 103 => 0xBE95BF15#32
  | 104 => 0x3F48E4EA#32
  | 105 => 0x3D9F7FEE#32
  | 106 => 0xBF438255#32
  | 107 => 0xBF89FC8F#32
  | 108 => 0x3D7A5958#32
  | 109 => 0xBE919580#32
  | 110 => 0xBF20A5F6#32
  | 111 => 0xBEFB1428#32
  | 112 => 0x3F98802C#32
  | 113 => 0xBF41291E#32
  | 114 => 0x3EE98088#32
  | 115 => 0xBF8AE7E8#32
  | 116 => 0xBF30D35B#32
  | 117 => 0x3F37F4FB#32
  | 118 => 0x3E31FEEB#32
  | 119 => 0x3F161757#32
  | 120 => 0x3F7CF972#32
  | 121 => 0x3E438568#32
  | 122 => 0x40951499#32
  | 123 => 0x3F533808#32
  | 124 => 0x3E837E0B#32
  | 125 => 0x3E911D2E#32
  | 126 => 0x403050EE#32
  | 127 => 0x3ED3FFE1#32
  | _ => 0#32

noncomputable abbrev lit0t0_468 (i : Nat) : BitVec 32 := match i % 128 with
  | 0 => 0xBEC906DA#32
  | 1 => 0xBF8E6992#32
  | 2 => 0x3F041390#32
  | 3 => 0x3E8F23BC#32
  | 4 => 0xBF3525F3#32
  | 5 => 0x3EDF894D#32
  | 6 => 0x3ECCBD36#32
  | 7 => 0xBF134347#32
  | 8 => 0x3CF617E0#32
  | 9 => 0x3FB201EF#32
  | 10 => 0x3FC1C860#32
  | 11 => 0x3F599120#32
  | 12 => 0x3F8184F3#32
  | 13 => 0xBEEBBB88#32
  | 14 => 0x3E842EFD#32
  | 15 => 0x3F220488#32
  | 16 => 0x3F94EBAB#32
  | 17 => 0xBEBE975E#32
  | 18 => 0xBE883CB5#32
  | 19 => 0x3FEC939F#32
  | 20 => 0x3F21C920#32
  | 21 => 0xBE498555#32
  | 22 => 0x4078187F#32
  | 23 => 0xBE773BA2#32
  | 24 => 0x3FAF6ABD#32
  | 25 => 0xBF5EEFD3#32
  | 26 => 0xBBC3885B#32
  | 27 => 0xBFE74341#32
  | 28 => 0x3F842FE5#32
  | 29 => 0x3F37220C#32
  | 30 => 0x3DBBD97E#32
  | 31 => 0x40059117#32
  | 32 => 0x3E8D4762#32
  | 33 => 0x3EDBF32D#32
  | 34 => 0x3D9A284C#32
  | 35 => 0x3E7659EE#32
  | 36 => 0xBF145C8F#32
  | 37 => 0xBE9CBEEC#32
  | 38 => 0x3E90AED6#32
  | 39 => 0x3D726C44#32
  | 40 => 0x3F906418#32
  | 41 => 0x40ABF869#32
  | 42 => 0x3F8CDA38#32
  | 43 => 0xBFE78A2D#32
  | 44 => 0x3F1F10C6#32
  | 45 => 0x3FA7408C#32
  | 46 => 0x3E6C828E#32
  | 47 => 0x400DFE25#32
  | 48 => 0x3F329C7E#32
  | 49 => 0xBDFFDADF#32
  | 50 => 0x3FF3F502#32
  | 51 => 0xBEE3F29C#32
  | 52 => 0xBFC3381E#32
  | 53 => 0xBF3623BA#32
  | 54 => 0x3F1EF66C#32
  | 55 => 0x40177E70#32
  | 56 => 0x3E1769A4#32
  | 57 => 0x3E75763F#32
  | 58 => 0xBF08A81E#32
  | 59 => 0x3F741640#32
  | 60 => 0x407ABBF4#32
  | 61 => 0xBE1A4420#32
  | 62 => 0x3F811638#32
  | 63 => 0x3F1A2DF0#32
  | 64 => 0x3DF103EB#32
  | 65 => 0x40166CB8#32
  | 66 => 0xBF83FEA6#32
  | 67 => 0xBE38129C#32
  | 68 => 0x3F665DA3#32
  | 69 => 0xBF9EDD82#32
  | 70 => 0xBEC468BD#32
  | 71 => 0x3E094038#32
  | 72 => 0xBF643A98#32
  | 73 => 0xBF1A9A34#32
  | 74 => 0x3FEB13CB#32
  | 75 => 0x3FD099D9#32
  | 76 => 0x3F8B8560#32
  | 77 => 0xBF3FA675#32
  | 78 => 0x3E84722B#32
  | 79 => 0x3F7C75AB#32
  | 80 => 0x3D9A5E7B#32
  | 81 => 0xBF30F138#32
  | 82 => 0x3FDA0574#32
  | 83 => 0xBF339BFB#32
  | 84 => 0x3E9AEEF3#32
  | 85 => 0xBF825B5F#32
  | 86 => 0xBF771350#32
  | 87 => 0x3FC12918#32
  | 88 => 0xBE5905A3#32
  | 89 => 0x3EEF8BF0#32
  | 90 => 0x3FBA3F84#32
  | 91 => 0x4056089E#32
  | 92 => 0xBF026E16#32
  | 93 => 0xBF3CE6BB#32
  | 94 => 0x3E16418A#32
  | 95 => 0x3F25EC36#32
  | 96 => 0x3E42EC35#32
  | 97 => 0x3E99C21E#32
  | 98 => 0x3FBEB187#32
  | 99 => 0x4032146B#32
  | 100 => 0x3EA8FF44#32
  | 101 => 0x3F105DF7#32
  | 102 => 0x3E9481B4#32
  | 103 => 0xBF9EBFA1#32
  | 104 => 0x3B0CCFB3#32
  | 105 => 0x3F36EE01#32
  | 106 => 0x3FFA141A#32
  | 107 => 0x40295A91#32
  | 108 => 0x3F6733C3#32
  | 109 => 0x3F9C7809#32
  | 110 => 0x3F880278#32
  | 111 => 0x3E6F960A#32
  | 112 => 0x3F224FD6#32
  | 113 => 0x3F8008D0#32
  | 114 => 0x3EAA8B1C#32
  | 115 => 0xBD0D9C0D#32
  | 116 => 0xBFC323C3#32
  | 117 => 0x3E1F7B4A#32
  | 118 => 0x3F376178#32
  | 119 => 0xBFDB0267#32
  | 120 => 0x3F429089#32
  | 121 => 0x3E8F33B5#32
  | 122 => 0xBDE1FF82#32
  | 123 => 0x3E6DFAAF#32
  | 124 => 0xBE084FFF#32
  | 125 => 0xBFC4DCE9#32
  | 126 => 0x3EC6ACB5#32
  | 127 => 0xBF687730#32
  | _ => 0#32

noncomputable abbrev lit0t0_469 (i : Nat) : BitVec 32 := match i % 128 with
  | 0 => 0xBEF05D98#32
  | 1 => 0xBEFAE354#32
  | 2 => 0xBF234E03#32
  | 3 => 0x3F7DE746#32
  | 4 => 0x3F62BCB2#32
  | 5 => 0xBFA284C8#32
  | 6 => 0xBE55BF6D#32
  | 7 => 0x3F556164#32
  | 8 => 0x3E1811E4#32
  | 9 => 0xBFC6211B#32
  | 10 => 0xBE3922DC#32
  | 11 => 0x3FD1566F#32
  | 12 => 0xBE916899#32
  | 13 => 0xBE804DC9#32
  | 14 => 0x3EED7728#32
  | 15 => 0x40984175#32
  | 16 => 0x3FA02712#32
  | 17 => 0x3F51DA97#32
  | 18 => 0xBFAFAC24#32
  | 19 => 0x3F73C177#32
  | 20 => 0xBF0310AE#32
  | 21 => 0xBF69AECE#32
  | 22 => 0x3EC5D627#32
  | 23 => 0xBECE898A#32
  | 24 => 0x3FFBBDE4#32
  | 25 => 0x3FAEF878#32
  | 26 => 0x3DC27648#32
  | 27 => 0x404335D6#32
  | 28 => 0x3EAA400A#32
  | 29 => 0xBF7AE868#32
  | 30 => 0xBFC0EE5B#32
  | 31 => 0xBF0AB4E4#32
  | 32 => 0xBE2FC509#32
  | 33 => 0xBE2E15C8#32
  | 34 => 0x3F8F942C#32
  | 35 => 0x4017201F#32
  | 36 => 0x3F72B111#32
  | 37 => 0x3FD07395#32
  | 38 => 0xBF9F250C#32
  | 39 => 0x3E37FE33#32
  | 40 => 0x402D564A#32
  | 41 => 0x3F946760#32
  | 42 => 0xBEE3BB1E#32
  | 43 => 0x3E9C6F86#32
  | 44 => 0x3F9FB494#32
  | 45 => 0x3F61BAAE#32
  | 46 => 0xBEE4644D#32
  | 47 => 0x3F1FB245#32
  | 48 => 0x4089837F#32
  | 49 => 0xBF8EEAEE#32
  | 50 => 0xBF989B0D#32
  | 51 => 0x3F7897AE#32
  | 52 => 0xBE2544C4#32
  | 53 => 0xBEC9DB8A#32
  | 54 => 0xBEC4730C#32
  | 55 => 0x405744BB#32
  | 56 => 0xBF1626F4#32
  | 57 => 0xBE681F0D#32
  | 58 => 0xBF82DE1A#32
  | 59 => 0x3E588897#32
  | 60 => 0x3FC76B68#32
  | 61 => 0x404F8C6F#32
  | 62 => 0x3F4A6DE2#32
  | 63 => 0xBE53A653#32
  | 64 => 0xBF4E8BCD#32
  | 65 => 0xBEA6A2E7#32
  | 66 => 0x3FA9EA1B#32
  | 67 => 0x3FC54CD6#32
  | 68 => 0xBF6C8B04#32
  | 69 => 0x3F17D293#32
  | 70 => 0xBE1DA725#32
  | 71 => 0xBF900648#32
  | 72 => 0x3D62AAA8#32
  | 73 => 0xBDA27A4D#32
  | 74 => 0x3F0A28FE#32
  | 75 => 0xBF3407FD#32
  | 76 => 0xBDA82448#32
  | 77 => 0xBF0210DF#32
  | 78 => 0xBE8C4FF9#32
  | 79 => 0xBF09B0B2#32
  | 80 => 0x3F0B1E02#32
  | 81 => 0xBFBB8EE9#32
  | 82 => 0x3FC48E92#32
  | 83 => 0xBFD82C92#32
  | 84 => 0xBDF4F0DE#32
  | 85 => 0xBF6A6E06#32
  | 86 => 0x3FB7AEFC#32
  | 87 => 0x4036C45A#32
  | 88 => 0x3F2368FF#32
  | 89 => 0x3F923EE2#32
  | 90 => 0xBE2DDB60#32
  | 91 => 0xBF97C269#32
  | 92 => 0xBEBF9D0D#32
  | 93 => 0x3EBD05B6#32
  | 94 => 0xBFBD066B#32
  | 95 => 0x3DA40E3C#32
  | 96 => 0xBF8D13C9#32
  | 97 => 0xBD5730F8#32
  | 98 => 0x3FE5C1C7#32
  | 99 => 0x3F167F15#32
  | 100 => 0x3EE94D56#32
  | 101 => 0x3E9069CF#32
  | 102 => 0x3D818660#32
  | 103 => 0x402D06CF#32
  | 104 => 0x3EC0B438#32
  | 105 => 0xBE5F797E#32
  | 106 => 0x3E8DD973#32
  | 107 => 0x3FC39610#32
  | 108 => 0x3EA72AFC#32
  | 109 => 0xBE373C83#32
  | 110 => 0xBD8D88D6#32
  | 111 => 0x3F317086#32
  | 112 => 0xBE6EC4EA#32
  | 113 => 0x3FF7C497#32
  | 114 => 0x3F42BFBF#32
  | 115 => 0x3FEAFA9F#32
  | 116 => 0x403EDBE2#32
  | 117 => 0x3F66DBAE#32
  | 118 => 0x3F235BE8#32
  | 119 => 0xBEE384FA#32
  | 120 => 0x3F84A5F6#32
  | 121 => 0x3F7648CC#32
  | 122 => 0x3EA6CA15#32
  | 123 => 0xBE9A498A#32
  | 124 => 0x3F3D72E9#32
  | 125 => 0xBCF88980#32
  | 126 => 0x3FCB290E#32
  | 127 => 0x3F25A22F#32
  | _ => 0#32

noncomputable abbrev lit0t0_470 (i : Nat) : BitVec 32 := match i % 128 with
  | 0 => 0x3F83C036#32
  | 1 => 0x3F35228A#32
  | 2 => 0x3F9451ED#32
  | 3 => 0xBFA7F248#32
  | 4 => 0x3F51198A#32
  | 5 => 0xBF17E914#32
  | 6 => 0xBEA25B57#32
  | 7 => 0x3DD2FD19#32
  | 8 => 0x401E54E8#32
  | 9 => 0x3F05752A#32
  | 10 => 0x406317B7#32
  | 11 => 0x4030F2DB#32
  | 12 => 0x3F0DCCCA#32
  | 13 => 0xBF01A1A7#32
  | 14 => 0x3E7816FD#32
  | 15 => 0x3FC0209D#32
  | 16 => 0x3DEDA427#32
  | 17 => 0x3F84F11D#32
  | 18 => 0x40309D6E#32
  | 19 => 0xBF11F903#32
  | 20 => 0x400BA355#32
  | 21 => 0xBE169F4E#32
  | 22 => 0x3FE632A0#32
  | 23 => 0xBFA45F99#32
  | 24 => 0xBDA9EEB7#32
  | 25 => 0xBF28E2C3#32
  | 26 => 0xBED4846B#32
  | 27 => 0x3E872C74#32
  | 28 => 0x3F14A960#32
  | 29 => 0x400D0F47#32
  | 30 => 0x40504FF6#32
  | 31 => 0x3E991224#32
  | 32 => 0x3EBA44AF#32
  | 33 => 0xBF0BE5E2#32
  | 34 => 0xBEE0DCFF#32
  | 35 => 0x3F7E12C0#32
  | 36 => 0x3F3F2E69#32
  | 37 => 0x3F18AF5C#32
  | 38 => 0xBF89580A#32
  | 39 => 0xBF21E188#32
  | 40 => 0x401A3912#32
  | 41 => 0x3F3A3F47#32
  | 42 => 0x3E1639E8#32
  | 43 => 0xBEA7DA7D#32
  | 44 => 0xBF04592E#32
  | 45 => 0xBF0147EC#32
  | 46 => 0x3F436003#32
  | 47 => 0x407102F8#32
  | 48 => 0xBF8AC177#32
  | 49 => 0xBFF22A15#32
  | 50 => 0x3F200630#32
  | 51 => 0x3FFD92F8#32
  | 52 => 0xBEC9C63D#32
  | 53 => 0x401D4053#32
  | 54 => 0x3F9CCAB5#32
  | 55 => 0xBEB5282A#32
  | 56 => 0x401E88A1#32
  | 57 => 0x3F8BB1E6#32
  | 58 => 0x3FD66D95#32
  | 59 => 0x3EE04B26#32
  | 60 => 0x3FC39530#32
  | 61 => 0xBF6C47DC#32
  | 62 => 0x3FEBAAA8#32
  | 63 => 0xBF8CCFA1#32
  | 64 => 0xBF47A7F5#32
  | 65 => 0x3E424745#32
  | 66 => 0x3F817808#32
  | 67 => 0xBF8C5526#32
  | 68 => 0xBF7B5CFA#32
  | 69 => 0xBF9D9981#32
  | 70 => 0xBF36A237#32
  | 71 => 0xBFDBE598#32
  | 72 => 0x3FC91360#32
  | 73 => 0x3F4956B5#32
  | 74 => 0xBF225ABE#32
  | 75 => 0x402B7056#32
  | 76 => 0xBE4258CE#32
  | 77 => 0x3F4DD198#32
  | 78 => 0xBF242FBC#32
  | 79 => 0x3F1E0E60#32
  | 80 => 0xBFBE6338#32
  | 81 => 0xBF100CB7#32
  | 82 => 0xBD5DB517#32
  | 83 => 0x40578E8E#32
  | 84 => 0xBE8895AF#32
  | 85 => 0xBF5B903B#32
  | 86 => 0x400B319C#32
  | 87 => 0x3F8CF087#32
  | 88 => 0xBF1B3E2D#32
  | 89 => 0x3ED93D08#32
  | 90 => 0x401F98A9#32
  | 91 => 0x3EE38A97#32
  | 92 => 0x3F6F66CC#32
  | 93 => 0xC0010A36#32
  | 94 => 0x3F71D914#32
  | 95 => 0x3F0A3326#32
  | 96 => 0x3F2461E7#32
  | 97 => 0xBF14EC00#32
  | 98 => 0x3F16CA26#32
  | 99 => 0x3FC6FCF3#32
  | 100 => 0x4019FAB9#32
  | 101 => 0x3F8F95CD#32
  | 102 => 0x40A8161F#32
  | 103 => 0x3FEAB92E#32
  | 104 => 0xBEB9B78D#32
  | 105 => 0x3FEB35D1#32
  | 106 => 0x408BACFF#32
  | 107 => 0x3FE14468#32
  | 108 => 0x3ED32555#32
  | 109 => 0x402F2052#32
  | 110 => 0x3EEE3059#32
  | 111 => 0x3F8D197B#32
  | 112 => 0x3FFC78EB#32
  | 113 => 0xB785FFBA#32
  | 114 => 0xBDDCAC70#32
  | 115 => 0x401B3AD9#32
  | 116 => 0xBEC3F1BA#32
  | 117 => 0x3F4EA473#32
  | 118 => 0xBFA40899#32
  | 119 => 0x4062C983#32
  | 120 => 0x3E644612#32
  | 121 => 0x4010A9F6#32
  | 122 => 0x3F46A252#32
  | 123 => 0xBF12F7D6#32
  | 124 => 0x4072FC38#32
  | 125 => 0xBF2BAE8E#32
  | 126 => 0x3F0DE196#32
  | 127 => 0xBE628CDE#32
  | _ => 0#32

noncomputable abbrev lit0t0_471 (i : Nat) : BitVec 32 := match i % 128 with
  | 0 => 0x3F5CF5E5#32
  | 1 => 0x3F906625#32
  | 2 => 0xBEE2FA3F#32
  | 3 => 0xBF592E19#32
  | 4 => 0x3FDE9063#32
  | 5 => 0x3FDA649E#32
  | 6 => 0x3D183FFC#32
  | 7 => 0x3F15C7FA#32
  | 8 => 0xBF9BD084#32
  | 9 => 0x3F956EF8#32
  | 10 => 0x3FBFF6D9#32
  | 11 => 0xBF968DD0#32
  | 12 => 0x3DFE6FF2#32
  | 13 => 0x409B7082#32
  | 14 => 0x4000194F#32
  | 15 => 0x3F57C6D0#32
  | 16 => 0xBE554E75#32
  | 17 => 0xBEBAF5B3#32
  | 18 => 0x3FB461AF#32
  | 19 => 0xBF991306#32
  | 20 => 0x3F4C5B40#32
  | 21 => 0x3E08ADA2#32
  | 22 => 0xBF4139BB#32
  | 23 => 0x3F87EE46#32
  | 24 => 0x3FB0C2C9#32
  | 25 => 0xBEB2AB0E#32
  | 26 => 0x3E4E3105#32
  | 27 => 0x3F9567DC#32
  | 28 => 0xBEA8BF8F#32
  | 29 => 0x3EF12728#32
  | 30 => 0xBE45DEA2#32
  | 31 => 0x4020A8EF#32
  | 32 => 0x3CFA9FC3#32
  | 33 => 0xBD04F929#32
  | 34 => 0xBF2BC67A#32
  | 35 => 0x400788D8#32
  | 36 => 0x3FC8A6BC#32
  | 37 => 0x3EA3E9D7#32
  | 38 => 0xBFC7A48B#32
  | 39 => 0x3EE71580#32
  | 40 => 0xBE997E75#32
  | 41 => 0xBF1BFF3F#32
  | 42 => 0x3FBD6E85#32
  | 43 => 0x3D96058E#32
  | 44 => 0x3FF2FAB3#32
  | 45 => 0x3F50D3DD#32
  | 46 => 0xBF337820#32
  | 47 => 0x3DFFE5C4#32
  | 48 => 0xBEB4D0B1#32
  | 49 => 0x3F889F4E#32
  | 50 => 0x3F1F107A#32
  | 51 => 0x3F1D32BA#32
  | 52 => 0x4000056B#32
  | 53 => 0xBDAC2470#32
  | 54 => 0xBF0A7103#32
  | 55 => 0x3FDB47A5#32
  | 56 => 0x3F13EC4E#32
  | 57 => 0x3F17710E#32
  | 58 => 0x407C0373#32
  | 59 => 0x3EE043D0#32
  | 60 => 0x3F6BE9B1#32
  | 61 => 0xBFAE13D8#32
  | 62 => 0x401ED5A8#32
  | 63 => 0x3F8DD1BC#32
  | 64 => 0x3FAE714D#32
  | 65 => 0x3EA656EF#32
  | 66 => 0x3E4872FA#32
  | 67 => 0x3F9B422E#32
  | 68 => 0x3FB79FE0#32
  | 69 => 0x400CB57E#32
  | 70 => 0x3F3744A7#32
  | 71 => 0x3F14691B#32
  | 72 => 0xBEEEB3A0#32
  | 73 => 0x40151396#32
  | 74 => 0xBE864FDF#32
  | 75 => 0x3F6D93BF#32
  | 76 => 0xBF10318C#32
  | 77 => 0xBFC1D5A8#32
  | 78 => 0x3ECE3388#32
  | 79 => 0xBF92F6DE#32
  | 80 => 0xBE861D8B#32
  | 81 => 0x3F2D2690#32
  | 82 => 0xBF800522#32
  | 83 => 0x4066E4ED#32
  | 84 => 0x3FC07956#32
  | 85 => 0xBF560017#32
  | 86 => 0xBF328D11#32
  | 87 => 0x3FD3CF6E#32
  | 88 => 0x3E834F07#32
  | 89 => 0x4016264B#32
  | 90 => 0x3F2630B8#32
  | 91 => 0x3F12E469#32
  | 92 => 0x3F546C77#32
  | 93 => 0xBF0448BB#32
  | 94 => 0x40253094#32
  | 95 => 0xBE27F9B2#32
  | 96 => 0xBDDA4FE4#32
  | 97 => 0x3EC4F205#32
  | 98 => 0x3E891967#32
  | 99 => 0x3EBB48C8#32
  | 100 => 0x406DBC2D#32
  | 101 => 0xBF8CB4FA#32
  | 102 => 0xBE488901#32
  | 103 => 0x3E4691C1#32
  | 104 => 0xBF89B3B0#32
  | 105 => 0xBF851AE6#32
  | 106 => 0xBE0BE9D4#32
  | 107 => 0xBF3FA9CA#32
  | 108 => 0xBEE899D0#32
  | 109 => 0xBF3F665F#32
  | 110 => 0x3FA5F1FA#32
  | 111 => 0x3EEC7058#32
  | 112 => 0x3DB1E0A7#32
  | 113 => 0x3F50A6AE#32
  | 114 => 0x3EC617C2#32
  | 115 => 0x3F7D8448#32
  | 116 => 0xBDF7807C#32
  | 117 => 0x4010A67D#32
  | 118 => 0xBF9DF4C6#32
  | 119 => 0xBED2B228#32
  | 120 => 0xBF33DE46#32
  | 121 => 0x3F8EAEF2#32
  | 122 => 0x3CE50260#32
  | 123 => 0xBE981B4A#32
  | 124 => 0x3FB1829F#32
  | 125 => 0x3F46B75B#32
  | 126 => 0x3FF310B2#32
  | 127 => 0x3FCB3184#32
  | _ => 0#32

noncomputable abbrev lit0t0_472 (i : Nat) : BitVec 32 := match i % 128 with
  | 0 => 0xBE930ABE#32
  | 1 => 0x3F453408#32
  | 2 => 0x3F43D279#32
  | 3 => 0x3DFD03C2#32
  | 4 => 0xBE840D69#32
  | 5 => 0x3FBF37AC#32
  | 6 => 0x3F10C1E3#32
  | 7 => 0xBE6A4165#32
  | 8 => 0x3F01367A#32
  | 9 => 0xBF27FFEE#32
  | 10 => 0x406D6F79#32
  | 11 => 0x401E3568#32
  | 12 => 0x3F96650C#32
  | 13 => 0xBC74EFF3#32
  | 14 => 0x3F0E0B72#32
  | 15 => 0xBF8898C2#32
  | 16 => 0x3F8668E7#32
  | 17 => 0x3F21900B#32
  | 18 => 0xBF393FA5#32
  | 19 => 0x40392C30#32
  | 20 => 0x3FF79319#32
  | 21 => 0x3DA4CF27#32
  | 22 => 0x3EBFC289#32
  | 23 => 0xBD0589A3#32
  | 24 => 0xBF05CD98#32
  | 25 => 0x3F184A65#32
  | 26 => 0xBE0D5E93#32
  | 27 => 0x3FB8A692#32
  | 28 => 0xBF5A1D1E#32
  | 29 => 0xBECF4663#32
  | 30 => 0x3F0913CA#32
  | 31 => 0xBEECD2CE#32
  | 32 => 0x3F07FDC7#32
  | 33 => 0xBDF9CDBC#32
  | 34 => 0x4008CA1C#32
  | 35 => 0x4006452E#32
  | 36 => 0xBFDE6DDA#32
  | 37 => 0x3EB4D80E#32
  | 38 => 0x4005B7D3#32
  | 39 => 0xBEB5836F#32
  | 40 => 0xBF68D392#32
  | 41 => 0xBF737ABE#32
  | 42 => 0x3F3F9D8C#32
  | 43 => 0x3E292C62#32
  | 44 => 0x3F25B5A9#32
  | 45 => 0x3F501B16#32
  | 46 => 0xBEA6733B#32
  | 47 => 0xBF08EB3B#32
  | 48 => 0xBF12E091#32
  | 49 => 0x3F23C5C2#32
  | 50 => 0xBF80D5C2#32
  | 51 => 0x40021797#32
  | 52 => 0xBF2AF14D#32
  | 53 => 0xBEE6189A#32
  | 54 => 0x3FF38700#32
  | 55 => 0x3F201F05#32
  | 56 => 0x3F00FB62#32
  | 57 => 0x3FCF5C2D#32
  | 58 => 0x3F0FD1E3#32
  | 59 => 0x3F239BA0#32
  | 60 => 0xBD266A58#32
  | 61 => 0xBE9FDF82#32
  | 62 => 0xBDB7EB07#32
  | 63 => 0xBE9E8282#32
  | 64 => 0x3FEE745E#32
  | 65 => 0xBF6F6973#32
  | 66 => 0x3FBF201D#32
  | 67 => 0xBF27EA7C#32
  | 68 => 0xBE1113B0#32
  | 69 => 0x3F60A62E#32
  | 70 => 0x3E7CDCC0#32
  | 71 => 0x40923A9F#32
  | 72 => 0xBF82796A#32
  | 73 => 0xBE84460E#32
  | 74 => 0xBF0108C6#32
  | 75 => 0x3FAF29FA#32
  | 76 => 0x3EF85212#32
  | 77 => 0x4042937A#32
  | 78 => 0x3E22CAF2#32
  | 79 => 0x3FF40561#32
  | 80 => 0xBE807E66#32
  | 81 => 0xBF0D95FD#32
  | 82 => 0x4100F567#32
  | 83 => 0x3F6F36DB#32
  | 84 => 0x3E46FC9B#32
  | 85 => 0xBF762A98#32
  | 86 => 0x3F204201#32
  | 87 => 0x408795A6#32
  | 88 => 0xBEB68513#32
  | 89 => 0x402F7BA8#32
  | 90 => 0x3F6B064A#32
  | 91 => 0x40971821#32
  | 92 => 0xBD4E7C6F#32
  | 93 => 0x3FD027BC#32
  | 94 => 0x3FB79409#32
  | 95 => 0xBE2BDD32#32
  | 96 => 0x3F422F07#32
  | 97 => 0x3EA7E118#32
  | 98 => 0x3F215214#32
  | 99 => 0x3F13A382#32
  | 100 => 0xBEB95D55#32
  | 101 => 0xBF3EB577#32
  | 102 => 0x3DD174B1#32
  | 103 => 0x4017E4CC#32
  | 104 => 0x40322801#32
  | 105 => 0x3D6D7C8B#32
  | 106 => 0xBE88BCC6#32
  | 107 => 0xBE09E810#32
  | 108 => 0xBD7DFFB1#32
  | 109 => 0xBD716B55#32
  | 110 => 0xBF063A2E#32
  | 111 => 0x3F1B8386#32
  | 112 => 0x3E8CE7A7#32
  | 113 => 0x3F4B0DBB#32
  | 114 => 0xBD1635D5#32
  | 115 => 0x3FA164D9#32
  | 116 => 0x3FFD42EB#32
  | 117 => 0x3F3C890F#32
  | 118 => 0xBFB7D138#32
  | 119 => 0x3F8F2928#32
  | 120 => 0xBF869EB0#32
  | 121 => 0xBF6AF0EC#32
  | 122 => 0x3F1DFAD3#32
  | 123 => 0x3FA58DD8#32
  | 124 => 0x3E879ECC#32
  | 125 => 0xBEAE06E2#32
  | 126 => 0x3F32543E#32
  | 127 => 0xBFAD15CC#32
  | _ => 0#32

noncomputable abbrev lit0t0_473 (i : Nat) : BitVec 32 := match i % 128 with
  | 0 => 0x3E5E6809#32
  | 1 => 0x3FC5E36A#32
  | 2 => 0xBB002BE5#32
  | 3 => 0xBED5EF2C#32
  | 4 => 0x3F1E0915#32
  | 5 => 0x3F56EB68#32
  | 6 => 0x3F5D949F#32
  | 7 => 0xBE3EE9D3#32
  | 8 => 0x3F4D779E#32
  | 9 => 0xBF8C03A0#32
  | 10 => 0x3E99C2B2#32
  | 11 => 0x3FF165EA#32
  | 12 => 0x402CAA7E#32
  | 13 => 0x3E7D8E0B#32
  | 14 => 0xBE39ED25#32
  | 15 => 0x3F2ABAA1#32
  | 16 => 0xBD8975EA#32
  | 17 => 0x3FC758D1#32
  | 18 => 0x3F344289#32
  | 19 => 0x3FF3A84C#32
  | 20 => 0x4063E9D6#32
  | 21 => 0x4085D5EF#32
  | 22 => 0x3F65C166#32
  | 23 => 0x400CDADD#32
  | 24 => 0x3FD488B3#32
  | 25 => 0x3F96DFA4#32
  | 26 => 0x3FC5D5B8#32
  | 27 => 0xBF0245D3#32
  | 28 => 0xBE97320D#32
  | 29 => 0x3FC78970#32
  | 30 => 0x3DE2EC16#32
  | 31 => 0xBE16F5D3#32
  | 32 => 0x3F8F3B8A#32
  | 33 => 0x3EF1A524#32
  | 34 => 0x3DAB6FF9#32
  | 35 => 0x3F3E61AD#32
  | 36 => 0x3EC2A967#32
  | 37 => 0xBE2E131D#32
  | 38 => 0x3EE86F78#32
  | 39 => 0x3FF04A09#32
  | 40 => 0x3E9452AA#32
  | 41 => 0x4000396B#32
  | 42 => 0x3F9D0A1C#32
  | 43 => 0xBEE410CC#32
  | 44 => 0xBC47E805#32
  | 45 => 0xBF2FFF0E#32
  | 46 => 0x405097D2#32
  | 47 => 0xBF22C785#32
  | 48 => 0xBF0E1ED8#32
  | 49 => 0xBF21833F#32
  | 50 => 0x3F5DF5DC#32
  | 51 => 0x3FC14EE2#32
  | 52 => 0x3EBEB7E9#32
  | 53 => 0x3F43BB3E#32
  | 54 => 0x3F880FCE#32
  | 55 => 0xBEDCD9CE#32
  | 56 => 0x3F9E6218#32
  | 57 => 0xBFBDF618#32
  | 58 => 0xBEA13A36#32
  | 59 => 0xBE925790#32
  | 60 => 0x3ECA676F#32
  | 61 => 0x3FFF339F#32
  | 62 => 0xBE70EC4C#32
  | 63 => 0x3F7A374E#32
  | 64 => 0x4037ABBC#32
  | 65 => 0x3FD33916#32
  | 66 => 0xBE7C5BEC#32
  | 67 => 0x3E2370E2#32
  | 68 => 0x3FD4317A#32
  | 69 => 0x3FD00D70#32
  | 70 => 0xBEF343CA#32
  | 71 => 0xBF1A73EE#32
  | 72 => 0x3FC4F7C1#32
  | 73 => 0x3D85D93F#32
  | 74 => 0x3EA9E40F#32
  | 75 => 0x3EBFE44C#32
  | 76 => 0x3EE2505F#32
  | 77 => 0xBE999984#32
  | 78 => 0x3EFDBF50#32
  | 79 => 0xBEE29E31#32
  | 80 => 0xBF4BBB00#32
  | 81 => 0x3F89409D#32
  | 82 => 0x3F544897#32
  | 83 => 0xBED29D77#32
  | 84 => 0xBF75B15D#32
  | 85 => 0x3EE97281#32
  | 86 => 0x3F09EB18#32
  | 87 => 0x3F446759#32
  | 88 => 0x400C292C#32
  | 89 => 0x3EECE242#32
  | 90 => 0x403BDC57#32
  | 91 => 0xBCF4E541#32
  | 92 => 0x3D048DA3#32
  | 93 => 0x3EFFCDD4#32
  | 94 => 0xBEE03C40#32
  | 95 => 0x3EDDE9B6#32
  | 96 => 0xBEA46AE5#32
  | 97 => 0x3FB6CFEB#32
  | 98 => 0x3E3CACD1#32
  | 99 => 0x3E31FEC5#32
  | 100 => 0xBEBE729C#32
  | 101 => 0x402C520E#32
  | 102 => 0x3E9F96A7#32
  | 103 => 0xBFB5215F#32
  | 104 => 0x3FA50484#32
  | 105 => 0x3F24F80D#32
  | 106 => 0xBF4A449F#32
  | 107 => 0x3E9E33BD#32
  | 108 => 0x3F5CEAB0#32
  | 109 => 0x3EBA1036#32
  | 110 => 0xBF4E4AB0#32
  | 111 => 0x3FD012A2#32
  | 112 => 0xBDD50518#32
  | 113 => 0x3F8D713E#32
  | 114 => 0x3FF66FB2#32
  | 115 => 0x3FA58664#32
  | 116 => 0x3F53C3C6#32
  | 117 => 0xBE852F24#32
  | 118 => 0x3ED8E32E#32
  | 119 => 0x3F194D55#32
  | 120 => 0x3E58F2AC#32
  | 121 => 0xBF5BEE4C#32
  | 122 => 0xBFA12528#32
  | 123 => 0x3D2642C3#32
  | 124 => 0x3F0B4FD0#32
  | 125 => 0x3FAD5453#32
  | 126 => 0xBC5DA8E9#32
  | 127 => 0x3DD916A7#32
  | _ => 0#32

noncomputable abbrev lit0t0_474 (i : Nat) : BitVec 32 := match i % 128 with
  | 0 => 0xBF1AD742#32
  | 1 => 0x3EB6FFB7#32
  | 2 => 0x3EA45BFE#32
  | 3 => 0xBF6E8200#32
  | 4 => 0x3FFB2B34#32
  | 5 => 0x40081E5C#32
  | 6 => 0x40084D10#32
  | 7 => 0xBFA037F4#32
  | 8 => 0x3FBD8A47#32
  | 9 => 0x3DAD65B3#32
  | 10 => 0x3F3AD6E4#32
  | 11 => 0x3DB5B55C#32
  | 12 => 0x3F7B9A67#32
  | 13 => 0x3F5C3D88#32
  | 14 => 0x3EEB5861#32
  | 15 => 0x3DDB31BF#32
  | 16 => 0xBF0643C0#32
  | 17 => 0x40A0D0F3#32
  | 18 => 0x3F8AA2FA#32
  | 19 => 0x3EBF7D34#32
  | 20 => 0x3E81A812#32
  | 21 => 0x409DC51E#32
  | 22 => 0x3E2C3B8B#32
  | 23 => 0xBE8F6AA5#32
  | 24 => 0x408E21FE#32
  | 25 => 0x4013990C#32
  | 26 => 0xBF0341D2#32
  | 27 => 0x3EE295D1#32
  | 28 => 0x40A94D81#32
  | 29 => 0x3F850606#32
  | 30 => 0x3F35CD2A#32
  | 31 => 0xBF7112D9#32
  | 32 => 0xBEA8A464#32
  | 33 => 0x3F053CDE#32
  | 34 => 0xBF1BB658#32
  | 35 => 0xBEB0AC60#32
  | 36 => 0xBE8459B3#32
  | 37 => 0x3EAEC081#32
  | 38 => 0x40064CAB#32
  | 39 => 0xBF11A87B#32
  | 40 => 0xBF0CB40C#32
  | 41 => 0x3F1AB8EC#32
  | 42 => 0xBFA9F344#32
  | 43 => 0xBF2874BE#32
  | 44 => 0x40173EA6#32
  | 45 => 0x3F8EC0B8#32
  | 46 => 0xBE6C2A41#32
  | 47 => 0x3F8A7643#32
  | 48 => 0x3C7AF70F#32
  | 49 => 0x40AEC228#32
  | 50 => 0x3F963BB5#32
  | 51 => 0x3F476FC8#32
  | 52 => 0x3F8DB9F2#32
  | 53 => 0x3FF8D7ED#32
  | 54 => 0x3F364306#32
  | 55 => 0x3F94AC28#32
  | 56 => 0x4004504D#32
  | 57 => 0xBEE628DD#32
  | 58 => 0xBE8B4213#32
  | 59 => 0x4075B84F#32
  | 60 => 0xBF971560#32
  | 61 => 0xBEAF85C0#32
  | 62 => 0x40820DA9#32
  | 63 => 0xBF7E61B0#32
  | 64 => 0x3EA374D5#32
  | 65 => 0x3F24C31C#32
  | 66 => 0x3EF42968#32
  | 67 => 0x3CE1CBDB#32
  | 68 => 0x405665E0#32
  | 69 => 0x3EE655B4#32
  | 70 => 0xBDBD9996#32
  | 71 => 0x3F7AC080#32
  | 72 => 0x40334F66#32
  | 73 => 0x3F3683A5#32
  | 74 => 0x3F4F6521#32
  | 75 => 0x401EBAFB#32
  | 76 => 0x3FFAD387#32
  | 77 => 0xBE018E32#32
  | 78 => 0xBE4CBFD4#32
  | 79 => 0x3EAA5639#32
  | 80 => 0x3EDA7A7D#32
  | 81 => 0x3EE73582#32
  | 82 => 0x3EC9237C#32
  | 83 => 0x3F818F1E#32
  | 84 => 0x3F88CE50#32
  | 85 => 0xBF874B9C#32
  | 86 => 0x3F208580#32
  | 87 => 0xBF0759E6#32
  | 88 => 0x3F963526#32
  | 89 => 0x3EDE973E#32
  | 90 => 0x3E6E6B0D#32
  | 91 => 0x3F6BA068#32
  | 92 => 0xBF80C5E3#32
  | 93 => 0xBED463AE#32
  | 94 => 0x3FBAEDB8#32
  | 95 => 0x4017BC46#32
  | 96 => 0xBE31081D#32
  | 97 => 0x405E2F41#32
  | 98 => 0xBED91F65#32
  | 99 => 0x3EEAB897#32
  | 100 => 0x3FFFCDF5#32
  | 101 => 0xBEB0CA50#32
  | 102 => 0x40228F01#32
  | 103 => 0x3F2EEF67#32
  | 104 => 0x40072201#32
  | 105 => 0x40964C4E#32
  | 106 => 0xBEC0E8B9#32
  | 107 => 0xBE4CAAEC#32
  | 108 => 0x3E0B262A#32
  | 109 => 0x3EE65496#32
  | 110 => 0xBFADB14C#32
  | 111 => 0x3F11BB79#32
  | 112 => 0x4015ADA7#32
  | 113 => 0x3F093E35#32
  | 114 => 0x3F464B29#32
  | 115 => 0xBD3DE0B6#32
  | 116 => 0x3DCED032#32
  | 117 => 0x404750DC#32
  | 118 => 0x3F1E1FBB#32
  | 119 => 0x3E8BBE97#32
  | 120 => 0x3F687C9B#32
  | 121 => 0x3F5DC9B6#32
  | 122 => 0x3FB25929#32
  | 123 => 0xBF5D8400#32
  | 124 => 0xBF9AB7DD#32
  | 125 => 0x4086CBEF#32
  | 126 => 0xBED634CD#32
  | 127 => 0x3F94ABE6#32
  | _ => 0#32

noncomputable abbrev lit0t0_475 (i : Nat) : BitVec 32 := match i % 128 with
  | 0 => 0x3FC8B5DA#32
  | 1 => 0x3EB3F78C#32
  | 2 => 0x3F9FA908#32
  | 3 => 0x3F4C817B#32
  | 4 => 0x3DE29674#32
  | 5 => 0xBE289366#32
  | 6 => 0x3F55C516#32
  | 7 => 0x3F0B2B8A#32
  | 8 => 0x405E1239#32
  | 9 => 0x402EDA3C#32
  | 10 => 0x3FB4E89D#32
  | 11 => 0x3EADABED#32
  | 12 => 0x40895715#32
  | 13 => 0xBF8A13C2#32
  | 14 => 0x3F823EA9#32
  | 15 => 0x3F8B517E#32
  | 16 => 0x3DF3AB1F#32
  | 17 => 0x3FF04A4E#32
  | 18 => 0xBFA68466#32
  | 19 => 0xBE355571#32
  | 20 => 0xBF46130B#32
  | 21 => 0x3F8575B0#32
  | 22 => 0x3F320315#32
  | 23 => 0xBF6D7AD3#32
  | 24 => 0x3F82F2B2#32
  | 25 => 0xBF1CAD81#32
  | 26 => 0x3E8B106B#32
  | 27 => 0x3F47DBBA#32
  | 28 => 0x3F038364#32
  | 29 => 0xBF49D134#32
  | 30 => 0x3F34EB97#32
  | 31 => 0x3E46477C#32
  | 32 => 0xBF37EAED#32
  | 33 => 0x3F49F250#32
  | 34 => 0xBF55D929#32
  | 35 => 0x403C5369#32
  | 36 => 0x3F845A7C#32
  | 37 => 0x3FD40D36#32
  | 38 => 0x409E543B#32
  | 39 => 0x40220558#32
  | 40 => 0xBF52A455#32
  | 41 => 0xBF5632AA#32
  | 42 => 0xBE9E7506#32
  | 43 => 0x3F4F0182#32
  | 44 => 0xBE82BCF5#32
  | 45 => 0xBDC60CF7#32
  | 46 => 0xBF0E0493#32
  | 47 => 0xBF176EF2#32
  | 48 => 0xBEB84AA9#32
  | 49 => 0xBF64869C#32
  | 50 => 0x3F8F3F8D#32
  | 51 => 0x3F8EBC30#32
  | 52 => 0x3EAC5DC5#32
  | 53 => 0x3F616B10#32
  | 54 => 0xBFD79034#32
  | 55 => 0x3FC884EC#32
  | 56 => 0x3EBFD386#32
  | 57 => 0xBD6A5AF7#32
  | 58 => 0xBEC2EC39#32
  | 59 => 0x3F65C8A1#32
  | 60 => 0x3F9CBDD9#32
  | 61 => 0x3DA35420#32
  | 62 => 0xBFAC941E#32
  | 63 => 0x3FB73D95#32
  | 64 => 0xBF844AD9#32
  | 65 => 0x3F4018CD#32
  | 66 => 0xBF8F4674#32
  | 67 => 0xBFA1E783#32
  | 68 => 0x3ED9CC59#32
  | 69 => 0x3F179B70#32
  | 70 => 0x3E95C01D#32
  | 71 => 0x3F6002EE#32
  | 72 => 0xBDF80AFC#32
  | 73 => 0x4050FCDE#32
  | 74 => 0xBF678816#32
  | 75 => 0xBEB492E7#32
  | 76 => 0x3F7BA57C#32
  | 77 => 0xBF74D32C#32
  | 78 => 0x3F1E6DB7#32
  | 79 => 0xBF652640#32
  | 80 => 0xBE8453D6#32
  | 81 => 0xBEC83B4F#32
  | 82 => 0x3F68866E#32
  | 83 => 0xBE24D1DC#32
  | 84 => 0x3FBA4AC3#32
  | 85 => 0x40682481#32
  | 86 => 0xBD3CFBCC#32
  | 87 => 0xBF807504#32
  | 88 => 0xBEAB767A#32
  | 89 => 0x3F3C21D4#32
  | 90 => 0xBDCA8C5A#32
  | 91 => 0x3FBF8A8F#32
  | 92 => 0x3FCCB690#32
  | 93 => 0xBF8AE808#32
  | 94 => 0xBED2A1E9#32
  | 95 => 0x3E305C22#32
  | 96 => 0xBF970E30#32
  | 97 => 0x3F9F1BFB#32
  | 98 => 0xBEDFDD0F#32
  | 99 => 0x3FB41E5B#32
  | 100 => 0xBEA6A1E9#32
  | 101 => 0x3ECB4987#32
  | 102 => 0x409E5887#32
  | 103 => 0xBF547FC8#32
  | 104 => 0x3FD8CD09#32
  | 105 => 0x4059E5BB#32
  | 106 => 0xBDB5683E#32
  | 107 => 0xBEC6D087#32
  | 108 => 0xBE0A9405#32
  | 109 => 0xBFA8FD5B#32
  | 110 => 0x40629EF0#32
  | 111 => 0x401AEAF2#32
  | 112 => 0xBD336779#32
  | 113 => 0xBDEFC7E1#32
  | 114 => 0x3FD6092A#32
  | 115 => 0xBF181157#32
  | 116 => 0x3FB82BE4#32
  | 117 => 0x4063BF2A#32
  | 118 => 0x3FFE122A#32
  | 119 => 0xBEB6F179#32
  | 120 => 0x3F960A14#32
  | 121 => 0xBF2B37DF#32
  | 122 => 0x3FAE1518#32
  | 123 => 0xBEB17746#32
  | 124 => 0x3F5AFF84#32
  | 125 => 0x3E8D830E#32
  | 126 => 0xBDEAD00F#32
  | 127 => 0x4018EE3A#32
  | _ => 0#32

noncomputable abbrev lit0t0_476 (i : Nat) : BitVec 32 := match i % 128 with
  | 0 => 0x3FB25B7A#32
  | 1 => 0x400B3CDC#32
  | 2 => 0x3FEF1BC4#32
  | 3 => 0x3F2FDA97#32
  | 4 => 0xBFBA1803#32
  | 5 => 0x3F777FD3#32
  | 6 => 0xBE033A72#32
  | 7 => 0x3F866498#32
  | 8 => 0x3F788152#32
  | 9 => 0xBF798530#32
  | 10 => 0x3FC6F7FE#32
  | 11 => 0xBEDC29E6#32
  | 12 => 0xBF0F1447#32
  | 13 => 0x3FB2968E#32
  | 14 => 0x3FF43B3E#32
  | 15 => 0xBF5BB870#32
  | 16 => 0xBF5C558C#32
  | 17 => 0x40408394#32
  | 18 => 0x3E3F26D9#32
  | 19 => 0xBFAD9849#32
  | 20 => 0x3F5EC718#32
  | 21 => 0x401ACE19#32
  | 22 => 0x3FBC6B11#32
  | 23 => 0x3F063300#32
  | 24 => 0x400E326A#32
  | 25 => 0x3F4A5413#32
  | 26 => 0xBE600483#32
  | 27 => 0x3E70D138#32
  | 28 => 0x3F97A9AD#32
  | 29 => 0x3E5A4D3F#32
  | 30 => 0xBF0E7FA8#32
  | 31 => 0x3F7C96FB#32
  | 32 => 0x3FC62AEE#32
  | 33 => 0xBDCDDECD#32
  | 34 => 0xBE547684#32
  | 35 => 0x3F5B4C83#32
  | 36 => 0x3FC6A42E#32
  | 37 => 0xBF4FFEB6#32
  | 38 => 0xBE5EC694#32
  | 39 => 0x3DE3E7A6#32
  | 40 => 0x3FA56CED#32
  | 41 => 0xBF93D98A#32
  | 42 => 0x407826A6#32
  | 43 => 0x3F62E1A4#32
  | 44 => 0xBF1F6663#32
  | 45 => 0x3F3E481E#32
  | 46 => 0xBF49F694#32
  | 47 => 0x40008A34#32
  | 48 => 0xBE69069A#32
  | 49 => 0x3FB666A4#32
  | 50 => 0xBF7EAA2E#32
  | 51 => 0x3F9711DF#32
  | 52 => 0xBFA62221#32
  | 53 => 0x3F5F5947#32
  | 54 => 0x401A7811#32
  | 55 => 0x3F8FF446#32
  | 56 => 0xBEDB37A6#32
  | 57 => 0xBFC9D35C#32
  | 58 => 0x3F0F41C4#32
  | 59 => 0x3F848440#32
  | 60 => 0x3ECA1268#32
  | 61 => 0x3F40A680#32
  | 62 => 0x3F4E1D59#32
  | 63 => 0xBF825D2C#32
  | 64 => 0x3F97A854#32
  | 65 => 0xBF82E3E6#32
  | 66 => 0xBEE8DAE8#32
  | 67 => 0x3E23BA0B#32
  | 68 => 0xBFA34F00#32
  | 69 => 0x3F827743#32
  | 70 => 0x40C33C22#32
  | 71 => 0xBD47FCD0#32
  | 72 => 0x3FA4A820#32
  | 73 => 0x3F533D7B#32
  | 74 => 0xBFED1868#32
  | 75 => 0x3FD0D867#32
  | 76 => 0x3FA4FA9F#32
  | 77 => 0x4071F451#32
  | 78 => 0xBE80499D#32
  | 79 => 0xBDE53676#32
  | 80 => 0x3F682AFC#32
  | 81 => 0x40E3F890#32
  | 82 => 0x406CE0FE#32
  | 83 => 0x401A9F4C#32
  | 84 => 0x3FAB2B3E#32
  | 85 => 0x3E2A37C3#32
  | 86 => 0x3FA0196C#32
  | 87 => 0x3EABABBA#32
  | 88 => 0x404944F6#32
  | 89 => 0x404AEEC8#32
  | 90 => 0x3F330EAC#32
  | 91 => 0x4020351F#32
  | 92 => 0xBEFAD28A#32
  | 93 => 0x3E531E72#32
  | 94 => 0x3EBC4C21#32
  | 95 => 0x3F3159E9#32
  | 96 => 0xBF811AC6#32
  | 97 => 0x3F831623#32
  | 98 => 0x3F9AA4C9#32
  | 99 => 0xBF348685#32
  | 100 => 0x3EC960FE#32
  | 101 => 0xBF4BAD8C#32
  | 102 => 0xBEA3EAEE#32
  | 103 => 0xBF1E552D#32
  | 104 => 0xBF144223#32
  | 105 => 0x3F05DC62#32
  | 106 => 0x4005D018#32
  | 107 => 0xBF081016#32
  | 108 => 0xBEF02356#32
  | 109 => 0xBE221A1E#32
  | 110 => 0xBF801867#32
  | 111 => 0x3FFF1458#32
  | 112 => 0xBF21EFF3#32
  | 113 => 0xBF0F707A#32
  | 114 => 0x401F60EB#32
  | 115 => 0x3F7B7AA2#32
  | 116 => 0x3CB14E70#32
  | 117 => 0x3E614948#32
  | 118 => 0x3EF6D473#32
  | 119 => 0xBC98B2E6#32
  | 120 => 0x40401DCB#32
  | 121 => 0x3C8EB08A#32
  | 122 => 0x3D927BC6#32
  | 123 => 0x3F32AEBF#32
  | 124 => 0xBF951617#32
  | 125 => 0xBEFD11DA#32
  | 126 => 0x3D9DF3EE#32
  | 127 => 0x3FBB1003#32
  | _ => 0#32

noncomputable abbrev lit0t0_477 (i : Nat) : BitVec 32 := match i % 128 with
  | 0 => 0x3FA714B9#32
  | 1 => 0x3D01FB70#32
  | 2 => 0x3FADCD49#32
  | 3 => 0x3FB4CCDC#32
  | 4 => 0x3FCDF545#32
  | 5 => 0x3F890741#32
  | 6 => 0xBF6F7030#32
  | 7 => 0x3E75AE97#32
  | 8 => 0x3E04D9D7#32
  | 9 => 0xBEDC1364#32
  | 10 => 0xBF554143#32
  | 11 => 0x3F9EA31A#32
  | 12 => 0xBE480775#32
  | 13 => 0xBD801C23#32
  | 14 => 0x40B2576A#32
  | 15 => 0x3E284AB1#32
  | 16 => 0x3EBBF378#32
  | 17 => 0xBF3DDE5A#32
  | 18 => 0xBE25D320#32
  | 19 => 0xBF01133A#32
  | 20 => 0x4021DFD7#32
  | 21 => 0xBD2D7A41#32
  | 22 => 0xBF2DBBE2#32
  | 23 => 0x3F80FEAC#32
  | 24 => 0x3EF4C65A#32
  | 25 => 0x3DDFBC47#32
  | 26 => 0xBF8942E9#32
  | 27 => 0x3EEF6802#32
  | 28 => 0x3F4899C9#32
  | 29 => 0xBFAB39FF#32
  | 30 => 0x40081ED2#32
  | 31 => 0x3CAD1860#32
  | 32 => 0xBE75A8D4#32
  | 33 => 0x3F94AE83#32
  | 34 => 0x3FE039AE#32
  | 35 => 0xBE85008C#32
  | 36 => 0xBFACDA45#32
  | 37 => 0xBFBA5120#32
  | 38 => 0x3FB813E4#32
  | 39 => 0xBE5653AD#32
  | 40 => 0x3FC0106E#32
  | 41 => 0x3EBFC80C#32
  | 42 => 0xBE0C0271#32
  | 43 => 0x3F80B0EE#32
  | 44 => 0xBFB2D724#32
  | 45 => 0xBF4542F6#32
  | 46 => 0x3FA460DE#32
  | 47 => 0x4058E50E#32
  | 48 => 0xBFB4CD57#32
  | 49 => 0x3F8C2C39#32
  | 50 => 0xBE30CDCC#32
  | 51 => 0xBFB31BBE#32
  | 52 => 0x3FB0C5A4#32
  | 53 => 0x401C1262#32
  | 54 => 0xBF02E29F#32
  | 55 => 0xBF0085FD#32
  | 56 => 0x4020919D#32
  | 57 => 0x4084B7C8#32
  | 58 => 0xBF74CC9B#32
  | 59 => 0x3FECABC2#32
  | 60 => 0x402A3B19#32
  | 61 => 0x3EECE68C#32
  | 62 => 0x3F0F936E#32
  | 63 => 0x3E97184E#32
  | 64 => 0xBF419323#32
  | 65 => 0x40068056#32
  | 66 => 0x403A0EF4#32
  | 67 => 0x3F16BE87#32
  | 68 => 0x3D322050#32
  | 69 => 0x3C84F784#32
  | 70 => 0xBF912C3A#32
  | 71 => 0x3EF0CC49#32
  | 72 => 0x3F948CC3#32
  | 73 => 0xBF598479#32
  | 74 => 0x3FBEDB57#32
  | 75 => 0x3ED657C6#32
  | 76 => 0xBFCA346A#32
  | 77 => 0xBF97E528#32
  | 78 => 0xBE1A2711#32
  | 79 => 0x3FD42CB7#32
  | 80 => 0xBC27877D#32
  | 81 => 0xBE5CD8E4#32
  | 82 => 0x3F5E3563#32
  | 83 => 0xBF625E76#32
  | 84 => 0xBE8E3A8D#32
  | 85 => 0xBF094B4F#32
  | 86 => 0x3FDF40C1#32
  | 87 => 0x3ED7C360#32
  | 88 => 0xBFB263B6#32
  | 89 => 0x3F91257C#32
  | 90 => 0x3FE9044D#32
  | 91 => 0x3FF73BA2#32
  | 92 => 0x40710E4A#32
  | 93 => 0x3FD099CD#32
  | 94 => 0x3DB27D07#32
  | 95 => 0x3F9C34F0#32
  | 96 => 0x3F76E10C#32
  | 97 => 0xBF82B9F3#32
  | 98 => 0xBCCD497C#32
  | 99 => 0x3F2C0944#32
  | 100 => 0xBE61441D#32
  | 101 => 0xBE2BE5D5#32
  | 102 => 0x3F3D313B#32
  | 103 => 0x3EE5C2E9#32
  | 104 => 0x3FB425A1#32
  | 105 => 0xC000D3B5#32
  | 106 => 0xBD9DB484#32
  | 107 => 0x3EEC1E5C#32
  | 108 => 0x3FA631C8#32
  | 109 => 0x40A4F84C#32
  | 110 => 0x40018242#32
  | 111 => 0x3F911CC2#32
  | 112 => 0xBF872906#32
  | 113 => 0xBD31EE4A#32
  | 114 => 0x3EBBEE31#32
  | 115 => 0xBEBEF1D1#32
  | 116 => 0x402A7DB9#32
  | 117 => 0x3E614013#32
  | 118 => 0x3F6E6506#32
  | 119 => 0x4007B748#32
  | 120 => 0x3F787B4D#32
  | 121 => 0xBFBA3313#32
  | 122 => 0x3EEACB26#32
  | 123 => 0xBFBCBA40#32
  | 124 => 0x401CB7EB#32
  | 125 => 0x3ED5EC68#32
  | 126 => 0xBFA232FE#32
  | 127 => 0xBD975717#32
  | _ => 0#32

noncomputable abbrev lit0t0_478 (i : Nat) : BitVec 32 := match i % 128 with
  | 0 => 0x3F57C595#32
  | 1 => 0xBF7D860E#32
  | 2 => 0x408D144E#32
  | 3 => 0x40010B8E#32
  | 4 => 0xBDD543C7#32
  | 5 => 0xBEF75182#32
  | 6 => 0x406119AE#32
  | 7 => 0xBF05073C#32
  | 8 => 0x3F208D10#32
  | 9 => 0xBE2F880B#32
  | 10 => 0xBF52C731#32
  | 11 => 0xBB8A4F2C#32
  | 12 => 0xBFA1931F#32
  | 13 => 0x3FFEDE4A#32
  | 14 => 0xBF923449#32
  | 15 => 0xBE080947#32
  | 16 => 0x4066058F#32
  | 17 => 0xBEAE29C8#32
  | 18 => 0x3FFCA5EE#32
  | 19 => 0x3FCD1F1A#32
  | 20 => 0xBD972566#32
  | 21 => 0x40817BC0#32
  | 22 => 0x3F30E18D#32
  | 23 => 0x3FDA5545#32
  | 24 => 0x3FE173A6#32
  | 25 => 0xBF53B780#32
  | 26 => 0x4001DC41#32
  | 27 => 0x3E84FF86#32
  | 28 => 0xBFB46CA0#32
  | 29 => 0x3F88AA01#32
  | 30 => 0x3F8EB9BE#32
  | 31 => 0xBFAF8165#32
  | 32 => 0xBEE871CD#32
  | 33 => 0xBF8E8B7A#32
  | 34 => 0x3E393AC4#32
  | 35 => 0x4003CD91#32
  | 36 => 0xBE118DED#32
  | 37 => 0x402E8591#32
  | 38 => 0x3F62A1B0#32
  | 39 => 0xBEFFAE58#32
  | 40 => 0x3F057228#32
  | 41 => 0xBE791331#32
  | 42 => 0x3FA5530F#32
  | 43 => 0x3E748835#32
  | 44 => 0xBE8EB0B5#32
  | 45 => 0x3F85B8AF#32
  | 46 => 0x3F5616EC#32
  | 47 => 0xBFEC394E#32
  | 48 => 0x3F82E459#32
  | 49 => 0xBF5921E5#32
  | 50 => 0x3F01C86D#32
  | 51 => 0x40190765#32
  | 52 => 0x3E95BCE4#32
  | 53 => 0x3E922B77#32
  | 54 => 0x3FB540A1#32
  | 55 => 0xBF97EEA9#32
  | 56 => 0x3C82ADAA#32
  | 57 => 0x3D7A13EB#32
  | 58 => 0x3F3AECCF#32
  | 59 => 0x3F409EC6#32
  | 60 => 0xBED0C709#32
  | 61 => 0x40122518#32
  | 62 => 0x3E7E4A31#32
  | 63 => 0xBF45AE22#32
  | 64 => 0x4068D459#32
  | 65 => 0x3FB41E75#32
  | 66 => 0xBE13327C#32
  | 67 => 0x40465362#32
  | 68 => 0xBBA22522#32
  | 69 => 0x3F116887#32
  | 70 => 0xBF6E5CCC#32
  | 71 => 0xBE06D905#32
  | 72 => 0xBE910E2A#32
  | 73 => 0x400B78CF#32
  | 74 => 0xBF58F9D8#32
  | 75 => 0xBF5D18EC#32
  | 76 => 0x3FB8C6F3#32
  | 77 => 0xBF4A44B8#32
  | 78 => 0x3F84793C#32
  | 79 => 0xBEB3A191#32
  | 80 => 0xBED8C57D#32
  | 81 => 0x401E2039#32
  | 82 => 0xBEBE70FE#32
  | 83 => 0xBF1AFF04#32
  | 84 => 0x3F110C1F#32
  | 85 => 0x403A7ADD#32
  | 86 => 0x3D7910DB#32
  | 87 => 0xBF783285#32
  | 88 => 0xBFBFDBA4#32
  | 89 => 0x3F6B0B7B#32
  | 90 => 0x3F8B7CB4#32
  | 91 => 0xBF77C339#32
  | 92 => 0xBCA865DC#32
  | 93 => 0x3FBEACBB#32
  | 94 => 0x3F6973C8#32
  | 95 => 0xBF3BC932#32
  | 96 => 0x3F12E271#32
  | 97 => 0xBF506C1E#32
  | 98 => 0x3F0ADA56#32
  | 99 => 0x3F71CC20#32
  | 100 => 0xBF2E69BB#32
  | 101 => 0x3FE06FA2#32
  | 102 => 0xBC2DE95E#32
  | 103 => 0x3FA0400D#32
  | 104 => 0x3E5624B4#32
  | 105 => 0xBDF9D3B5#32
  | 106 => 0x3E4CEC7F#32
  | 107 => 0xBE019ADC#32
  | 108 => 0x3F8EBDCC#32
  | 109 => 0xBEB126E2#32
  | 110 => 0xBFA83214#32
  | 111 => 0x3F9024F6#32
  | 112 => 0x3FA14E1C#32
  | 113 => 0xBCA0DA12#32
  | 114 => 0xBF4D49B6#32
  | 115 => 0x3DD79D80#32
  | 116 => 0xBD86968A#32
  | 117 => 0x3FCEB1BE#32
  | 118 => 0x3FAD6E5D#32
  | 119 => 0xBF891C6D#32
  | 120 => 0x3EC04DFD#32
  | 121 => 0xBE6E19FB#32
  | 122 => 0x3E48CF7F#32
  | 123 => 0xBF9F5398#32
  | 124 => 0x3E4FA6D1#32
  | 125 => 0xBE3B0639#32
  | 126 => 0x3EAC1195#32
  | 127 => 0xBFB6B073#32
  | _ => 0#32

noncomputable abbrev lit0t0_479 (i : Nat) : BitVec 32 := match i % 128 with
  | 0 => 0x3FD1A32A#32
  | 1 => 0x3E93C92D#32
  | 2 => 0x4024304A#32
  | 3 => 0x4048CF36#32
  | 4 => 0x3F12B9E8#32
  | 5 => 0x3F850D16#32
  | 6 => 0x3EE55B89#32
  | 7 => 0x3F6E35E0#32
  | 8 => 0x3F58E1DC#32
  | 9 => 0x3EF1E224#32
  | 10 => 0x3F99083B#32
  | 11 => 0x3FF84A0F#32
  | 12 => 0xBF2A1E1B#32
  | 13 => 0x3EE379E6#32
  | 14 => 0xBF2F3888#32
  | 15 => 0x3F5AC268#32
  | 16 => 0x3FD8D59E#32
  | 17 => 0x3F5B1919#32
  | 18 => 0x400C3A47#32
  | 19 => 0x3F88682D#32
  | 20 => 0x40429C4D#32
  | 21 => 0x3DB624C4#32
  | 22 => 0xBE116A4D#32
  | 23 => 0xBF97DDF6#32
  | 24 => 0x409695A5#32
  | 25 => 0xBE535968#32
  | 26 => 0x3FDD98D7#32
  | 27 => 0x3F63D177#32
  | 28 => 0x3D04E2A9#32
  | 29 => 0xBF310067#32
  | 30 => 0x3FA080CA#32
  | 31 => 0xBF064151#32
  | 32 => 0x402FF0DD#32
  | 33 => 0xBEA44F0D#32
  | 34 => 0xBF37FB7C#32
  | 35 => 0x3D8B5ADB#32
  | 36 => 0x400E5BF7#32
  | 37 => 0xBF878EC3#32
  | 38 => 0x4009E518#32
  | 39 => 0x40240D44#32
  | 40 => 0x3F6F1614#32
  | 41 => 0x3EB922BA#32
  | 42 => 0x3EDD5F0E#32
  | 43 => 0x3F8E273D#32
  | 44 => 0xBF4472B5#32
  | 45 => 0x3E7D1423#32
  | 46 => 0x3F1E4B4B#32
  | 47 => 0xBE346E14#32
  | 48 => 0xBF8E2FFF#32
  | 49 => 0xBF269385#32
  | 50 => 0x3FE4F96E#32
  | 51 => 0xBF0907B2#32
  | 52 => 0x3FD42984#32
  | 53 => 0x3E8AA9CC#32
  | 54 => 0xBF3AAAE6#32
  | 55 => 0xBEABC551#32
  | 56 => 0x3E9975CE#32
  | 57 => 0xBF587D7B#32
  | 58 => 0xBF120FC7#32
  | 59 => 0xBE8D54C1#32
  | 60 => 0xBF3C4ECA#32
  | 61 => 0x3E2E1912#32
  | 62 => 0x3FFBD0A7#32
  | 63 => 0xBF226CD1#32
  | 64 => 0x3EDFD16F#32
  | 65 => 0xBEBBA37F#32
  | 66 => 0xBF0DB3B3#32
  | 67 => 0xBDA02750#32
  | 68 => 0x3FFF3712#32
  | 69 => 0xBF2448A2#32
  | 70 => 0x3FFEFCC5#32
  | 71 => 0x3F2DD3F1#32
  | 72 => 0x402A53FF#32
  | 73 => 0x4009C7DF#32
  | 74 => 0x3F99E4D2#32
  | 75 => 0x40103A62#32
  | 76 => 0xBF4E9FCD#32
  | 77 => 0xBF021782#32
  | 78 => 0x4007694E#32
  | 79 => 0x3F9114DF#32
  | 80 => 0x3E6094EF#32
  | 81 => 0x3E847DD4#32
  | 82 => 0xBF521A3C#32
  | 83 => 0x4008F812#32
  | 84 => 0x3F676577#32
  | 85 => 0x3F2D817F#32
  | 86 => 0x4078AECB#32
  | 87 => 0xBF1EE83C#32
  | 88 => 0xBF1F9986#32
  | 89 => 0xBF4C4F44#32
  | 90 => 0xBE1FA03B#32
  | 91 => 0xBF2DA634#32
  | 92 => 0x3FCE289A#32
  | 93 => 0xBE1E5D80#32
  | 94 => 0x40A32DD3#32
  | 95 => 0x3F6F2F68#32
  | 96 => 0x403E8335#32
  | 97 => 0x3E8F4AF4#32
  | 98 => 0x40542EE4#32
  | 99 => 0xBF147613#32
  | 100 => 0x3EAE4BA7#32
  | 101 => 0x3F2C8CA0#32
  | 102 => 0x3EED0FD1#32
  | 103 => 0x3F720035#32
  | 104 => 0x3FE3E3CA#32
  | 105 => 0x3F698D09#32
  | 106 => 0xBE6F66C8#32
  | 107 => 0xBE4E2ED1#32
  | 108 => 0x3E5C5A76#32
  | 109 => 0x3F025D60#32
  | 110 => 0xBE68698D#32
  | 111 => 0x3F2BB4CA#32
  | 112 => 0xBE5546E5#32
  | 113 => 0x401659A4#32
  | 114 => 0xBF03388D#32
  | 115 => 0x3F718B8F#32
  | 116 => 0x3F186FEA#32
  | 117 => 0x3F02700A#32
  | 118 => 0x3F86244F#32
  | 119 => 0x3F5F67F4#32
  | 120 => 0x3E87CDC6#32
  | 121 => 0x3F0EEE96#32
  | 122 => 0xBF908F71#32
  | 123 => 0x3CBEDC8B#32
  | 124 => 0xBF343E8A#32
  | 125 => 0xBF27BE72#32
  | 126 => 0xBF1AED18#32
  | 127 => 0xBEF5CBC4#32
  | _ => 0#32

noncomputable abbrev lit0t0_480 (i : Nat) : BitVec 32 := match i % 128 with
  | 0 => 0xBF47A91A#32
  | 1 => 0xBEEBC49F#32
  | 2 => 0x3E7891A2#32
  | 3 => 0xBF2C9C0F#32
  | 4 => 0xBED37148#32
  | 5 => 0xBFC32F88#32
  | 6 => 0x3F95BE46#32
  | 7 => 0x3DC1C16D#32
  | 8 => 0xBE99F5D7#32
  | 9 => 0x3FB75C17#32
  | 10 => 0xBFC8CE5B#32
  | 11 => 0x401AC324#32
  | 12 => 0x3F3DB71D#32
  | 13 => 0x3F1AFA53#32
  | 14 => 0x3F10341B#32
  | 15 => 0xBEA1AA73#32
  | 16 => 0x3D47F89C#32
  | 17 => 0xBC1F1E8D#32
  | 18 => 0xBEC0459E#32
  | 19 => 0x3EE35B50#32
  | 20 => 0x3FEDE3A6#32
  | 21 => 0x3FF6CA8C#32
  | 22 => 0x3F136041#32
  | 23 => 0x404E0773#32
  | 24 => 0xBE7B84D5#32
  | 25 => 0x3D3B7C77#32
  | 26 => 0xBE11ACBF#32
  | 27 => 0xBE2909FD#32
  | 28 => 0x3FBB9A5C#32
  | 29 => 0x3E4ED069#32
  | 30 => 0xBE3975F1#32
  | 31 => 0xBF13CBA5#32
  | 32 => 0x3EF41572#32
  | 33 => 0x3F7E1F54#32
  | 34 => 0xBF4B9256#32
  | 35 => 0x3F6718C4#32
  | 36 => 0x401F89C6#32
  | 37 => 0x3F7096A8#32
  | 38 => 0x3E003BE4#32
  | 39 => 0x3D8B37EF#32
  | 40 => 0x3F9BCA54#32
  | 41 => 0x404D1442#32
  | 42 => 0x3F78195C#32
  | 43 => 0xBE4C133E#32
  | 44 => 0xBD5E0194#32
  | 45 => 0x3C9DB4C2#32
  | 46 => 0x406261A9#32
  | 47 => 0x3F9B9EC3#32
  | 48 => 0x3EB7395D#32
  | 49 => 0x40135542#32
  | 50 => 0x3F30E94D#32
  | 51 => 0xBF100CD8#32
  | 52 => 0xBF9D736C#32
  | 53 => 0x3EF6C6FA#32
  | 54 => 0x3E96C746#32
  | 55 => 0x3FD909A2#32
  | 56 => 0xBE0B3D93#32
  | 57 => 0x3F868F2C#32
  | 58 => 0x3EED590F#32
  | 59 => 0xBFB9A2FB#32
  | 60 => 0x407248E3#32
  | 61 => 0x3FF18142#32
  | 62 => 0xBF4C45B3#32
  | 63 => 0x3DB2CBF7#32
  | 64 => 0x3E208502#32
  | 65 => 0x3D96E306#32
  | 66 => 0x3F878D6A#32
  | 67 => 0x3E9F3E84#32
  | 68 => 0xC007C461#32
  | 69 => 0x3FD1148C#32
  | 70 => 0xBEE3A27A#32
  | 71 => 0xBE058635#32
  | 72 => 0xBECD3D0C#32
  | 73 => 0xBF3E34E9#32
  | 74 => 0x3F58B27E#32
  | 75 => 0xBEFE07B4#32
  | 76 => 0xBF100B0A#32
  | 77 => 0x3DB81592#32
  | 78 => 0x40050652#32
  | 79 => 0x4099AB6D#32
  | 80 => 0xBF5A4A58#32
  | 81 => 0xBFA6042F#32
  | 82 => 0x3F103836#32
  | 83 => 0xBE5E8847#32
  | 84 => 0x3F8E96C4#32
  | 85 => 0xBF32D3A3#32
  | 86 => 0x3EE21C45#32
  | 87 => 0x3F3D86EA#32
  | 88 => 0x4062888C#32
  | 89 => 0x3F27121E#32
  | 90 => 0x3F2AEF20#32
  | 91 => 0xBFAE550F#32
  | 92 => 0x4001F6A8#32
  | 93 => 0xBE97AA47#32
  | 94 => 0xBF0B33D0#32
  | 95 => 0x3E37B266#32
  | 96 => 0x3F4BA424#32
  | 97 => 0x40306B63#32
  | 98 => 0x3EC8CD6F#32
  | 99 => 0x3F3B1FAB#32
  | 100 => 0xBD49C708#32
  | 101 => 0x3E23B354#32
  | 102 => 0xBF317852#32
  | 103 => 0x4073B69D#32
  | 104 => 0x400B86C1#32
  | 105 => 0x3F800742#32
  | 106 => 0xBE9F1445#32
  | 107 => 0x3FF28576#32
  | 108 => 0x404A6904#32
  | 109 => 0x3F985B4D#32
  | 110 => 0x3EDF70B6#32
  | 111 => 0xBE3AB7B2#32
  | 112 => 0xBFC8AE8C#32
  | 113 => 0xBEA09656#32
  | 114 => 0xBCA8D8B7#32
  | 115 => 0xBE0B2016#32
  | 116 => 0x40064CE7#32
  | 117 => 0xBF0A21A9#32
  | 118 => 0xBF5F5726#32
  | 119 => 0x3F65C2C8#32
  | 120 => 0xBF026692#32
  | 121 => 0x3FA7F45F#32
  | 122 => 0x3EDF12CC#32
  | 123 => 0x3E3120B7#32
  | 124 => 0xBF05F976#32
  | 125 => 0x3F01EA72#32
  | 126 => 0xBE4D823E#32
  | 127 => 0x3EA3641B#32
  | _ => 0#32

noncomputable abbrev lit0t0_481 (i : Nat) : BitVec 32 := match i % 128 with
  | 0 => 0xBE111760#32
  | 1 => 0xBE5C49F7#32
  | 2 => 0x3DD0B471#32
  | 3 => 0xBF13CE90#32
  | 4 => 0x40049E06#32
  | 5 => 0x3FF0455E#32
  | 6 => 0x3E2BD0F8#32
  | 7 => 0xBE838E0D#32
  | 8 => 0x3ED608F7#32
  | 9 => 0x3F3865E5#32
  | 10 => 0xBED0792E#32
  | 11 => 0x403B7BC8#32
  | 12 => 0xBF01E197#32
  | 13 => 0x3FF8E2FA#32
  | 14 => 0x3F22AB44#32
  | 15 => 0x3FCAF426#32
  | 16 => 0x3F0AEBBC#32
  | 17 => 0x401222E9#32
  | 18 => 0xBFB7DEDA#32
  | 19 => 0xBECF6C9E#32
  | 20 => 0xBD827BAB#32
  | 21 => 0xBE8423F6#32
  | 22 => 0x3F9D37DF#32
  | 23 => 0x3FAE2C88#32
  | 24 => 0xBF24F9BD#32
  | 25 => 0x3F27A07A#32
  | 26 => 0x3F441391#32
  | 27 => 0xBD75076B#32
  | 28 => 0x3ECE271E#32
  | 29 => 0x3F9B4DD3#32
  | 30 => 0x3E972C2E#32
  | 31 => 0x3E4601F9#32
  | 32 => 0xBF1D404B#32
  | 33 => 0xBF34FAE2#32
  | 34 => 0x3FA41C11#32
  | 35 => 0x3F08BA3C#32
  | 36 => 0xBEB34EF4#32
  | 37 => 0x4077155E#32
  | 38 => 0x3E8FFD87#32
  | 39 => 0xBE1412B6#32
  | 40 => 0x4065B9C4#32
  | 41 => 0x4041BD72#32
  | 42 => 0x400E10D5#32
  | 43 => 0x3F35EF84#32
  | 44 => 0x3F6D3CF4#32
  | 45 => 0xBF01E106#32
  | 46 => 0x3E8A0637#32
  | 47 => 0x402C4E42#32
  | 48 => 0x3E4D6F32#32
  | 49 => 0x3D7AC6A5#32
  | 50 => 0xBDF38E8E#32
  | 51 => 0x403A4775#32
  | 52 => 0x3F9EE0F0#32
  | 53 => 0xBEE60E26#32
  | 54 => 0xBF2C06B5#32
  | 55 => 0xBFAA1933#32
  | 56 => 0x3F93BC02#32
  | 57 => 0x3FFCC74A#32
  | 58 => 0x3E317490#32
  | 59 => 0xBF0B8E8E#32
  | 60 => 0xBF2C1383#32
  | 61 => 0xBE0AA8AE#32
  | 62 => 0x3EE3A07C#32
  | 63 => 0x3F0DAD3A#32
  | 64 => 0x3F9FB926#32
  | 65 => 0xBE961875#32
  | 66 => 0x405BA19C#32
  | 67 => 0x401A1E25#32
  | 68 => 0x3C56B494#32
  | 69 => 0xBE8427B3#32
  | 70 => 0xBEA166A8#32
  | 71 => 0x3F8182A9#32
  | 72 => 0x3ECF41DB#32
  | 73 => 0x3D975524#32
  | 74 => 0x3FD30894#32
  | 75 => 0xBF1F3E20#32
  | 76 => 0x4006E1CD#32
  | 77 => 0x3EDAFC21#32
  | 78 => 0xBF12BBD4#32
  | 79 => 0xBF15011E#32
  | 80 => 0x400C8C2E#32
  | 81 => 0x3F3C5FC4#32
  | 82 => 0x401594C2#32
  | 83 => 0x3F88E5DF#32
  | 84 => 0x3E5C84A6#32
  | 85 => 0xBF6C1C59#32
  | 86 => 0x3FCA9F21#32
  | 87 => 0x3E712A31#32
  | 88 => 0xBE94D494#32
  | 89 => 0xBF0806C5#32
  | 90 => 0x3F56E87A#32
  | 91 => 0x3EE1CDF0#32
  | 92 => 0xBCCCFE25#32
  | 93 => 0xBD773813#32
  | 94 => 0x3E8863BA#32
  | 95 => 0xBF3A8B00#32
  | 96 => 0x3F9D2A33#32
  | 97 => 0xBEFFF6FA#32
  | 98 => 0x3DC5CFFC#32
  | 99 => 0xBE150347#32
  | 100 => 0xBEA6E958#32
  | 101 => 0x403B2377#32
  | 102 => 0xBE5F5E69#32
  | 103 => 0xBE61072A#32
  | 104 => 0x3FAD98C2#32
  | 105 => 0xBE5E0A37#32
  | 106 => 0x3E433684#32
  | 107 => 0xBD9D572A#32
  | 108 => 0x403FAB64#32
  | 109 => 0x3EDD498C#32
  | 110 => 0xBE47A1DB#32
  | 111 => 0x3EA56B11#32
  | 112 => 0xBF873BE9#32
  | 113 => 0x3FBAEB69#32
  | 114 => 0xBFFF538B#32
  | 115 => 0x3F64FECB#32
  | 116 => 0x3F04D8EA#32
  | 117 => 0x3FDCDDA0#32
  | 118 => 0x3FDA7F12#32
  | 119 => 0x3F1267AB#32
  | 120 => 0x4065373F#32
  | 121 => 0x4024252F#32
  | 122 => 0x3FBA15E5#32
  | 123 => 0x3F20E402#32
  | 124 => 0x3FE6BBB6#32
  | 125 => 0xBFAC99E4#32
  | 126 => 0xBFB290BB#32
  | 127 => 0x3EC883C3#32
  | _ => 0#32

noncomputable abbrev lit0t0_482 (i : Nat) : BitVec 32 := match i % 128 with
  | 0 => 0x40096923#32
  | 1 => 0x3F6E6460#32
  | 2 => 0x3F9314CE#32
  | 3 => 0x3FC4A92D#32
  | 4 => 0x40840649#32
  | 5 => 0x3E07E738#32
  | 6 => 0x3F485A94#32
  | 7 => 0xBF01C7A5#32
  | 8 => 0xBF98883C#32
  | 9 => 0x40220CC4#32
  | 10 => 0x3ECFE58C#32
  | 11 => 0xBE81C87F#32
  | 12 => 0x3E0F8064#32
  | 13 => 0xBF24EEE1#32
  | 14 => 0x40479C79#32
  | 15 => 0x3E549C88#32
  | 16 => 0x3E0799C6#32
  | 17 => 0x3EB6498A#32
  | 18 => 0x3FD7FB76#32
  | 19 => 0xBEC0B689#32
  | 20 => 0x408AF8E2#32
  | 21 => 0x3DE6CE20#32
  | 22 => 0xBF678002#32
  | 23 => 0xBF0FE3C2#32
  | 24 => 0x3FAAD9C7#32
  | 25 => 0x3EE36572#32
  | 26 => 0x3EAD7EDB#32
  | 27 => 0x3EF3A6EA#32
  | 28 => 0x3F3AADED#32
  | 29 => 0x3F0FFA82#32
  | 30 => 0x3E12791B#32
  | 31 => 0x3FCF659C#32
  | 32 => 0x3ED28126#32
  | 33 => 0xBD67E2DC#32
  | 34 => 0x3ED0E73F#32
  | 35 => 0x3FC203A2#32
  | 36 => 0x400BFC05#32
  | 37 => 0x3F848C08#32
  | 38 => 0xBE296372#32
  | 39 => 0x3F530F49#32
  | 40 => 0x3F65CE3F#32
  | 41 => 0x3EF9AF09#32
  | 42 => 0x3F75B780#32
  | 43 => 0x3E6A4D3A#32
  | 44 => 0x4015826B#32
  | 45 => 0x3FAD9A90#32
  | 46 => 0x3F86E8E1#32
  | 47 => 0x3FFC70E3#32
  | 48 => 0xBFBF10DD#32
  | 49 => 0xBF845CA0#32
  | 50 => 0x4002DDB8#32
  | 51 => 0x3F6A03E0#32
  | 52 => 0x3EFD21BA#32
  | 53 => 0x40094295#32
  | 54 => 0xBF83B77C#32
  | 55 => 0x3DCB2DF7#32
  | 56 => 0x3F8F7846#32
  | 57 => 0xBEAD43A6#32
  | 58 => 0x3F33CEB2#32
  | 59 => 0xBE24FF01#32
  | 60 => 0xBFC60BD1#32
  | 61 => 0x3FA241EF#32
  | 62 => 0xBF05317C#32
  | 63 => 0x4035F3DE#32
  | 64 => 0xBE81085B#32
  | 65 => 0x3FDF871D#32
  | 66 => 0xBF22A789#32
  | 67 => 0x3F2BFADF#32
  | 68 => 0x3D975032#32
  | 69 => 0xBF0E4B96#32
  | 70 => 0x3F716CD9#32
  | 71 => 0x3F091E87#32
  | 72 => 0x3FCB36E8#32
  | 73 => 0x3FCD2B88#32
  | 74 => 0x3FBC3ACE#32
  | 75 => 0x403A3999#32
  | 76 => 0xBF1B82C0#32
  | 77 => 0x3F0E330E#32
  | 78 => 0x401DE0C5#32
  | 79 => 0x3F5F4239#32
  | 80 => 0xBE8841F7#32
  | 81 => 0x3FADFC3C#32
  | 82 => 0xBE3185B0#32
  | 83 => 0x3FD4DD5E#32
  | 84 => 0xBF1ADADA#32
  | 85 => 0xBE317445#32
  | 86 => 0x3FE0CD90#32
  | 87 => 0x3EA96852#32
  | 88 => 0xBEAC7230#32
  | 89 => 0x3FC411BA#32
  | 90 => 0x3FDC0ECE#32
  | 91 => 0xBEB6AF27#32
  | 92 => 0x40177C55#32
  | 93 => 0x3FDC8C2A#32
  | 94 => 0xBEAC4FBE#32
  | 95 => 0xBD29830A#32
  | 96 => 0xBF56FB4D#32
  | 97 => 0x3F4DFECD#32
  | 98 => 0xBD926FC0#32
  | 99 => 0x3ED1E3AA#32
  | 100 => 0x3EF7AC2A#32
  | 101 => 0x3EDF4110#32
  | 102 => 0x3E47F9B9#32
  | 103 => 0xBED3E1C8#32
  | 104 => 0x3F464AEA#32
  | 105 => 0x3D4B6A06#32
  | 106 => 0xBF3AB53D#32
  | 107 => 0x3DF646CD#32
  | 108 => 0x3F53195E#32
  | 109 => 0x3F47B09E#32
  | 110 => 0xBE5E525C#32
  | 111 => 0xBECCEEFC#32
  | 112 => 0x3FEB8743#32
  | 113 => 0x3F2638C3#32
  | 114 => 0xBC2D7717#32
  | 115 => 0x3ED0C939#32
  | 116 => 0x3F402C7C#32
  | 117 => 0x3F24FB66#32
  | 118 => 0x3E8645E1#32
  | 119 => 0xBE71723A#32
  | 120 => 0xBFA97947#32
  | 121 => 0xBF41922E#32
  | 122 => 0x3F7D46E1#32
  | 123 => 0x3CA1354A#32
  | 124 => 0x40072544#32
  | 125 => 0x3F00858E#32
  | 126 => 0x3F9BDB45#32
  | 127 => 0x3FA78425#32
  | _ => 0#32

noncomputable abbrev lit0t0_483 (i : Nat) : BitVec 32 := match i % 128 with
  | 0 => 0xBEB62694#32
  | 1 => 0x40302AC1#32
  | 2 => 0x3F02688B#32
  | 3 => 0xBF3AAD63#32
  | 4 => 0xBEAA7C44#32
  | 5 => 0x402DCFB9#32
  | 6 => 0x401C9593#32
  | 7 => 0xBEEBC25D#32
  | 8 => 0xBF55C2F8#32
  | 9 => 0x3E7FCAB8#32
  | 10 => 0x3F261482#32
  | 11 => 0x40248A1D#32
  | 12 => 0x4058E37F#32
  | 13 => 0x3EA7415A#32
  | 14 => 0xBE477685#32
  | 15 => 0x3EF75C2A#32
  | 16 => 0x3FE841B3#32
  | 17 => 0xBE357D2E#32
  | 18 => 0xBEC674B2#32
  | 19 => 0x3E91867E#32
  | 20 => 0xBF967705#32
  | 21 => 0x3FB7E2B8#32
  | 22 => 0xBF6E50A7#32
  | 23 => 0xBFA4A2F0#32
  | 24 => 0x408F1846#32
  | 25 => 0x4082ACB7#32
  | 26 => 0x3ED524E7#32
  | 27 => 0xBCB4CC3A#32
  | 28 => 0x3FFB2216#32
  | 29 => 0x3F240DD8#32
  | 30 => 0x3F8C2666#32
  | 31 => 0x3FF48D7C#32
  | 32 => 0x3F9BB669#32
  | 33 => 0x3E0ABBD0#32
  | 34 => 0x3E34AAFD#32
  | 35 => 0x3EFD620A#32
  | 36 => 0x3FFE0FC1#32
  | 37 => 0x3F1389A8#32
  | 38 => 0xBF938DEF#32
  | 39 => 0xBF437A7C#32
  | 40 => 0x3FE4C934#32
  | 41 => 0xBE895B94#32
  | 42 => 0x3FB70CF7#32
  | 43 => 0xBF707665#32
  | 44 => 0x3EDC29F4#32
  | 45 => 0xBF98E12C#32
  | 46 => 0x4074454F#32
  | 47 => 0x40BA5EE7#32
  | 48 => 0xBF4B2BCF#32
  | 49 => 0x3F032F78#32
  | 50 => 0x3F91DBB7#32
  | 51 => 0xBF4004AD#32
  | 52 => 0xBF3E1A08#32
  | 53 => 0xBEB7E11A#32
  | 54 => 0xBED30B9D#32
  | 55 => 0xBF02EE55#32
  | 56 => 0x3F43FB99#32
  | 57 => 0x400053C9#32
  | 58 => 0xBF63BB9C#32
  | 59 => 0xBE856F2C#32
  | 60 => 0x3F350876#32
  | 61 => 0x3E3668CE#32
  | 62 => 0xBDC0EF61#32
  | 63 => 0xBEE185CB#32
  | 64 => 0x3F9495BC#32
  | 65 => 0x3E28EFF8#32
  | 66 => 0x407A8FD5#32
  | 67 => 0x3DAB136D#32
  | 68 => 0x3EFB4A03#32
  | 69 => 0x3E3D793C#32
  | 70 => 0x3F58D926#32
  | 71 => 0x400EA23C#32
  | 72 => 0x40007746#32
  | 73 => 0xBF005A78#32
  | 74 => 0x3F5C2592#32
  | 75 => 0xBF781D2C#32
  | 76 => 0x3D78FFDA#32
  | 77 => 0x3EF3B06C#32
  | 78 => 0x3EDD7B71#32
  | 79 => 0x3FCC83B2#32
  | 80 => 0x3FFBECEF#32
  | 81 => 0x3F2FFF3F#32
  | 82 => 0x3F782575#32
  | 83 => 0x3FAAFFDB#32
  | 84 => 0xBEFB5A9C#32
  | 85 => 0xBF88CC56#32
  | 86 => 0x3D665DBC#32
  | 87 => 0x402AA989#32
  | 88 => 0x402CDB4B#32
  | 89 => 0x3D63C57B#32
  | 90 => 0xBECE8BBC#32
  | 91 => 0x3FDB36C9#32
  | 92 => 0xBF7F4FF4#32
  | 93 => 0x3E88C3A5#32
  | 94 => 0xBF41B723#32
  | 95 => 0xBE833284#32
  | 96 => 0xBF695E82#32
  | 97 => 0x402913CA#32
  | 98 => 0x3E848834#32
  | 99 => 0x3F04E927#32
  | 100 => 0x3FBAA324#32
  | 101 => 0xBF5CB141#32
  | 102 => 0x3E20FDDD#32
  | 103 => 0x3ED5E0FD#32
  | 104 => 0xBD0F4E2F#32
  | 105 => 0xBE7775D9#32
  | 106 => 0x3F468D6D#32
  | 107 => 0xBDDE2FE2#32
  | 108 => 0xBFE4CB9C#32
  | 109 => 0x402C8CC5#32
  | 110 => 0x3F3D42CB#32
  | 111 => 0x3FA96288#32
  | 112 => 0x406B9BF8#32
  | 113 => 0xBF1C7AE5#32
  | 114 => 0x3E400F94#32
  | 115 => 0x3FD15BD2#32
  | 116 => 0x3FA717F0#32
  | 117 => 0x3F84C318#32
  | 118 => 0x3F10BA12#32
  | 119 => 0x3FD0C6EC#32
  | 120 => 0xBEACD1C2#32
  | 121 => 0x3FAD5C83#32
  | 122 => 0x40070A21#32
  | 123 => 0x3EB1462D#32
  | 124 => 0xBF7E61C7#32
  | 125 => 0x401E0476#32
  | 126 => 0xBF1BB294#32
  | 127 => 0x4005B0DC#32
  | _ => 0#32

noncomputable abbrev lit0t0_484 (i : Nat) : BitVec 32 := match i % 128 with
  | 0 => 0xBD194AAE#32
  | 1 => 0x3F8C86BF#32
  | 2 => 0x4028E00A#32
  | 3 => 0xBD3E0221#32
  | 4 => 0xBE9ED99C#32
  | 5 => 0xBF0D9658#32
  | 6 => 0x3FB2C09C#32
  | 7 => 0x3F38BDF8#32
  | 8 => 0xBF8D83FC#32
  | 9 => 0xBF888D14#32
  | 10 => 0xBE9704F3#32
  | 11 => 0xBFB5656B#32
  | 12 => 0xBF45DCBE#32
  | 13 => 0xBF75699E#32
  | 14 => 0xBEBB2D5B#32
  | 15 => 0x401DE8E3#32
  | 16 => 0xBF62CEC8#32
  | 17 => 0xBEC15F75#32
  | 18 => 0x3A449ADE#32
  | 19 => 0xBFADF24B#32
  | 20 => 0x3F588F4A#32
  | 21 => 0xBFAC71DE#32
  | 22 => 0xBF0136F7#32
  | 23 => 0xBE8487C8#32
  | 24 => 0x3F889DBC#32
  | 25 => 0x3F9D9DC7#32
  | 26 => 0x3C9BDBAA#32
  | 27 => 0x3E9077DD#32
  | 28 => 0x3FBB61B2#32
  | 29 => 0x3FF191A2#32
  | 30 => 0x3FD89BA0#32
  | 31 => 0xBEC7A669#32
  | 32 => 0x3EA96439#32
  | 33 => 0xBE9F4ECD#32
  | 34 => 0x4004D827#32
  | 35 => 0x3F49F88B#32
  | 36 => 0xBEC88A09#32
  | 37 => 0x3F24E0C2#32
  | 38 => 0xBEFB174C#32
  | 39 => 0x3F89A891#32
  | 40 => 0xBF4D60B8#32
  | 41 => 0x3F975B81#32
  | 42 => 0xBE9B3274#32
  | 43 => 0xBF54CBC0#32
  | 44 => 0x401094B6#32
  | 45 => 0xBDBABC90#32
  | 46 => 0x3EEDEF07#32
  | 47 => 0xBD66F601#32
  | 48 => 0xBFA1C78C#32
  | 49 => 0x3E524032#32
  | 50 => 0xBDB396EE#32
  | 51 => 0x3EFF1B8A#32
  | 52 => 0xBE393914#32
  | 53 => 0x3EF30290#32
  | 54 => 0xBF6FAD74#32
  | 55 => 0x3F854C17#32
  | 56 => 0x4027C30F#32
  | 57 => 0x3E565EB3#32
  | 58 => 0x3FB0A362#32
  | 59 => 0xBE9C7AED#32
  | 60 => 0x3FC633E8#32
  | 61 => 0x3EF2CD75#32
  | 62 => 0xBE28FD0F#32
  | 63 => 0xBE4E9FEF#32
  | 64 => 0x3F5BF304#32
  | 65 => 0x4049ECE4#32
  | 66 => 0x40032ADA#32
  | 67 => 0x3FE9558C#32
  | 68 => 0x3CBDA069#32
  | 69 => 0xBFA00D14#32
  | 70 => 0x3FD6EDCC#32
  | 71 => 0x3FC98413#32
  | 72 => 0x3F105CA2#32
  | 73 => 0x3E4974B6#32
  | 74 => 0x3ED59B47#32
  | 75 => 0x3E741062#32
  | 76 => 0xBF05AF20#32
  | 77 => 0xBEA0825F#32
  | 78 => 0x3EAE5816#32
  | 79 => 0x4084F7FF#32
  | 80 => 0xBB889408#32
  | 81 => 0xBE0A40BC#32
  | 82 => 0x3F8131E1#32
  | 83 => 0xBEAEAFCB#32
  | 84 => 0x3F668ECA#32
  | 85 => 0xBF69FA32#32
  | 86 => 0xBF805CBA#32
  | 87 => 0x400A0DA2#32
  | 88 => 0x3E937FDE#32
  | 89 => 0x4048A877#32
  | 90 => 0xBDF415F0#32
  | 91 => 0xBF9D6A06#32
  | 92 => 0x3FD80670#32
  | 93 => 0xBDD06C40#32
  | 94 => 0x3E274F36#32
  | 95 => 0x3EC92A4D#32
  | 96 => 0xBFD250C8#32
  | 97 => 0xBD655E52#32
  | 98 => 0xBDD7078B#32
  | 99 => 0xBE810195#32
  | 100 => 0xBF495B70#32
  | 101 => 0x3E5E6B87#32
  | 102 => 0x3FBAAE2A#32
  | 103 => 0x3FDA4E26#32
  | 104 => 0x3EDCE5F5#32
  | 105 => 0x40034874#32
  | 106 => 0x3F0269C7#32
  | 107 => 0x400FC216#32
  | 108 => 0x3EF6C0A7#32
  | 109 => 0x3EBE7D33#32
  | 110 => 0x3F2C0735#32
  | 111 => 0xBEC0B05E#32
  | 112 => 0x3E04BBF5#32
  | 113 => 0x3EA64311#32
  | 114 => 0x40075131#32
  | 115 => 0x3F8F0B78#32
  | 116 => 0x3F82A932#32
  | 117 => 0xBF363F7F#32
  | 118 => 0xBDFA94DB#32
  | 119 => 0x3FDBB0A8#32
  | 120 => 0xBF2731DA#32
  | 121 => 0x3D2E3662#32
  | 122 => 0x3F3BDF95#32
  | 123 => 0x3EAD2D07#32
  | 124 => 0xBF4ACC81#32
  | 125 => 0xBF3CD32B#32
  | 126 => 0x3F069BF2#32
  | 127 => 0x404F755B#32
  | _ => 0#32

noncomputable abbrev lit0t0_485 (i : Nat) : BitVec 32 := match i % 128 with
  | 0 => 0xBF5BF078#32
  | 1 => 0x3F3E5BB4#32
  | 2 => 0xBEA3CBC3#32
  | 3 => 0xBDCF4B96#32
  | 4 => 0x3F7AFFAC#32
  | 5 => 0x3F2405BC#32
  | 6 => 0xBE5499A3#32
  | 7 => 0x3F8E1CB1#32
  | 8 => 0x3F3C98F7#32
  | 9 => 0xBF82A56A#32
  | 10 => 0x40EF029A#32
  | 11 => 0x3E93965E#32
  | 12 => 0x404C3959#32
  | 13 => 0x405E2929#32
  | 14 => 0x3FAD8075#32
  | 15 => 0xBEE9C401#32
  | 16 => 0xBFB7D820#32
  | 17 => 0xBF5D6106#32
  | 18 => 0xBE98DB49#32
  | 19 => 0x3EB56E02#32
  | 20 => 0xBF995B2A#32
  | 21 => 0x3D5991CB#32
  | 22 => 0x3EE15175#32
  | 23 => 0x3E6A9D8F#32
  | 24 => 0x3EE55B89#32
  | 25 => 0x3F9D5117#32
  | 26 => 0xBE8E51FD#32
  | 27 => 0x3F3F0A46#32
  | 28 => 0xBE63190C#32
  | 29 => 0xBF98FB51#32
  | 30 => 0x404F1A65#32
  | 31 => 0xBFBA14DA#32
  | 32 => 0x40075492#32
  | 33 => 0x3DA11214#32
  | 34 => 0xBF6D888B#32
  | 35 => 0xBD3DCC4F#32
  | 36 => 0x3EE40F5E#32
  | 37 => 0x3FE6D110#32
  | 38 => 0xBE80A1E1#32
  | 39 => 0x40210601#32
  | 40 => 0xBEABD2C2#32
  | 41 => 0x3F177C59#32
  | 42 => 0x3F9D2E34#32
  | 43 => 0xBDA1EA1F#32
  | 44 => 0x4038397D#32
  | 45 => 0x3F53D115#32
  | 46 => 0x3FF0C480#32
  | 47 => 0x3FC9A449#32
  | 48 => 0xBF6377B8#32
  | 49 => 0xBF2714EB#32
  | 50 => 0xBF0930D8#32
  | 51 => 0x3F106138#32
  | 52 => 0x400A1D6A#32
  | 53 => 0x3FD58110#32
  | 54 => 0x3FCF4C1C#32
  | 55 => 0xBF06429F#32
  | 56 => 0x3FF11A2A#32
  | 57 => 0x3F6A30DE#32
  | 58 => 0x3FB0A0F7#32
  | 59 => 0xBE8C7423#32
  | 60 => 0x3F6F2035#32
  | 61 => 0xBF32EED4#32
  | 62 => 0xBFB04048#32
  | 63 => 0x3FFD3E50#32
  | 64 => 0x3E4BF9BB#32
  | 65 => 0x3EF5A4AC#32
  | 66 => 0x3EF33E08#32
  | 67 => 0xBFB9289A#32
  | 68 => 0x3FD41439#32
  | 69 => 0xBF36FCBF#32
  | 70 => 0x3E92C28B#32
  | 71 => 0x3E976DDA#32
  | 72 => 0x3E5F207C#32
  | 73 => 0xBEA04CF3#32
  | 74 => 0xBF0DF126#32
  | 75 => 0x402931E0#32
  | 76 => 0xBF480BB9#32
  | 77 => 0x3F2480DC#32
  | 78 => 0x3E3703C0#32
  | 79 => 0xBCDB2BB4#32
  | 80 => 0x40972B6A#32
  | 81 => 0x3E062DEA#32
  | 82 => 0xBF9B1183#32
  | 83 => 0xBF16F712#32
  | 84 => 0x3E172D79#32
  | 85 => 0xBF7C673A#32
  | 86 => 0x3FF91757#32
  | 87 => 0xBFCF70EF#32
  | 88 => 0x3E0E42E8#32
  | 89 => 0xBF6F8501#32
  | 90 => 0x3EE153F6#32
  | 91 => 0x3FD7F3F7#32
  | 92 => 0x3F943B88#32
  | 93 => 0x3F3C355B#32
  | 94 => 0x3F8CCE05#32
  | 95 => 0x40E45B71#32
  | 96 => 0x3EF83A5C#32
  | 97 => 0x3F0B7217#32
  | 98 => 0x3FA0534F#32
  | 99 => 0x3FCAB15A#32
  | 100 => 0x3D6B07F0#32
  | 101 => 0x408EA4D3#32
  | 102 => 0x3FDD787D#32
  | 103 => 0xBF29C39B#32
  | 104 => 0xBF464997#32
  | 105 => 0x3F362D0C#32
  | 106 => 0x4109E7EF#32
  | 107 => 0xBF8D9E29#32
  | 108 => 0xBF78B8DE#32
  | 109 => 0x408C5FDB#32
  | 110 => 0x401D446D#32
  | 111 => 0x3F046CA5#32
  | 112 => 0x3F1DF0EF#32
  | 113 => 0x3F21CA19#32
  | 114 => 0x3F4F158D#32
  | 115 => 0x3FB64A7E#32
  | 116 => 0x3F97C3E4#32
  | 117 => 0x3FF07610#32
  | 118 => 0x3FAADDC7#32
  | 119 => 0x4014D938#32
  | 120 => 0xBF9DF00B#32
  | 121 => 0x3F6E4E63#32
  | 122 => 0x401C855F#32
  | 123 => 0x3FB68823#32
  | 124 => 0x3F057248#32
  | 125 => 0x3EF4BF3B#32
  | 126 => 0x3E029955#32
  | 127 => 0x3E97EAB7#32
  | _ => 0#32

noncomputable abbrev lit0t0_486 (i : Nat) : BitVec 32 := match i % 128 with
  | 0 => 0xBF28ECF6#32
  | 1 => 0xBDECBC33#32
  | 2 => 0xBED81AB4#32
  | 3 => 0x402FC4AB#32
  | 4 => 0xBF8F1C73#32
  | 5 => 0x3EE58F9C#32
  | 6 => 0x3F698820#32
  | 7 => 0xBFDBB888#32
  | 8 => 0x3F91CB01#32
  | 9 => 0x3ECA009F#32
  | 10 => 0x3FE58F7A#32
  | 11 => 0x3F1A3243#32
  | 12 => 0xBFA0ED3C#32
  | 13 => 0xBF1EC990#32
  | 14 => 0x3FBD3068#32
  | 15 => 0x3FA7D881#32
  | 16 => 0x3F11802B#32
  | 17 => 0xBE869BA2#32
  | 18 => 0x3F5B50AE#32
  | 19 => 0x3E656A2E#32
  | 20 => 0x3FA20791#32
  | 21 => 0x3EE5F827#32
  | 22 => 0xBEBAF1F2#32
  | 23 => 0x3E6733A1#32
  | 24 => 0xBF172D6B#32
  | 25 => 0xBF2AA4C9#32
  | 26 => 0xBEB2AC30#32
  | 27 => 0x3FC5FB3D#32
  | 28 => 0x3FD1D948#32
  | 29 => 0x3F6FFDA6#32
  | 30 => 0x3F693A1C#32
  | 31 => 0x3DFD966A#32
  | 32 => 0x3FF3B874#32
  | 33 => 0xBF56B0E7#32
  | 34 => 0x3FCD5708#32
  | 35 => 0xBE6AC157#32
  | 36 => 0x3FA37334#32
  | 37 => 0x3E06DB01#32
  | 38 => 0x3FAE1756#32
  | 39 => 0xBDB3BE25#32
  | 40 => 0xBE0BA520#32
  | 41 => 0x3EAC71E0#32
  | 42 => 0x400176DC#32
  | 43 => 0xBF028931#32
  | 44 => 0x3DBCDE25#32
  | 45 => 0x3FFC37BA#32
  | 46 => 0xBDBC3907#32
  | 47 => 0x3F84B205#32
  | 48 => 0x3F1ECD40#32
  | 49 => 0x3F870EA0#32
  | 50 => 0xBE99F9A5#32
  | 51 => 0x4008E699#32
  | 52 => 0x3C31F80D#32
  | 53 => 0x3F3B90C1#32
  | 54 => 0xBF0A19D6#32
  | 55 => 0x3FAD6673#32
  | 56 => 0x3DEBA018#32
  | 57 => 0x4038A73E#32
  | 58 => 0xBE0FD959#32
  | 59 => 0xBF49B03D#32
  | 60 => 0x3E1D670A#32
  | 61 => 0x3F3862B5#32
  | 62 => 0xBF872588#32
  | 63 => 0xBD44D7E4#32
  | 64 => 0x4028D995#32
  | 65 => 0x402387A3#32
  | 66 => 0x3F086D5E#32
  | 67 => 0x3D4C725D#32
  | 68 => 0x3F6E5417#32
  | 69 => 0x3FCB470A#32
  | 70 => 0xBF74549C#32
  | 71 => 0x40003725#32
  | 72 => 0x3ED16756#32
  | 73 => 0x3EB7BEB6#32
  | 74 => 0xBF5FEAFC#32
  | 75 => 0xBF065CC0#32
  | 76 => 0xBEB13EED#32
  | 77 => 0xBF1AD779#32
  | 78 => 0x3F30FD94#32
  | 79 => 0x3F049A89#32
  | 80 => 0xBEC2AA09#32
  | 81 => 0xBEF521F2#32
  | 82 => 0xBE7E598E#32
  | 83 => 0x3C7BD4EF#32
  | 84 => 0xBEC91440#32
  | 85 => 0x3F38A1F4#32
  | 86 => 0x3F04D3CC#32
  | 87 => 0xBE096184#32
  | 88 => 0xBF8D6F72#32
  | 89 => 0x3EDBBFF2#32
  | 90 => 0xBF75EAD6#32
  | 91 => 0xBF9500EB#32
  | 92 => 0x3F568EF2#32
  | 93 => 0x3F79C436#32
  | 94 => 0x4047A1E1#32
  | 95 => 0x400B5086#32
  | 96 => 0x40270AE8#32
  | 97 => 0x3E7A41B0#32
  | 98 => 0xBDCD6843#32
  | 99 => 0x3FB92949#32
  | 100 => 0x3F8C75D6#32
  | 101 => 0xBF424DC5#32
  | 102 => 0xBF140231#32
  | 103 => 0xBE972D27#32
  | 104 => 0x40418EC2#32
  | 105 => 0x40850845#32
  | 106 => 0x3F71FACA#32
  | 107 => 0x3FC925CA#32
  | 108 => 0x3E4C3A8E#32
  | 109 => 0x3E8B4777#32
  | 110 => 0x401BC80F#32
  | 111 => 0x3EF31672#32
  | 112 => 0x3F29A7C8#32
  | 113 => 0x3E4FD6B3#32
  | 114 => 0x3EAF7393#32
  | 115 => 0xBF22B542#32
  | 116 => 0x3F2ECA71#32
  | 117 => 0xBF3E10A3#32
  | 118 => 0x3EBE85F6#32
  | 119 => 0x3F14E638#32
  | 120 => 0x3F9A9A15#32
  | 121 => 0x3E922E8B#32
  | 122 => 0x4013C290#32
  | 123 => 0xBEFBC648#32
  | 124 => 0x4093B99B#32
  | 125 => 0xBFB8463B#32
  | 126 => 0x3FF91BF2#32
  | 127 => 0x3F10738E#32
  | _ => 0#32

noncomputable abbrev lit0t0_487 (i : Nat) : BitVec 32 := match i % 128 with
  | 0 => 0xBDF74C6C#32
  | 1 => 0x3F3CFA69#32
  | 2 => 0x40934F5E#32
  | 3 => 0x3ED6D962#32
  | 4 => 0x401D4C1A#32
  | 5 => 0x4087D48D#32
  | 6 => 0x3FA260F7#32
  | 7 => 0x3F9CB413#32
  | 8 => 0x3F58ADB0#32
  | 9 => 0xBFB5A19B#32
  | 10 => 0x3FACE372#32
  | 11 => 0x401B9851#32
  | 12 => 0x3FF73272#32
  | 13 => 0x40BB85C6#32
  | 14 => 0x3EAA843E#32
  | 15 => 0x3F13B483#32
  | 16 => 0x3F15F40C#32
  | 17 => 0x3EB3CF2A#32
  | 18 => 0x3FD32BC0#32
  | 19 => 0xBE90097B#32
  | 20 => 0xBC975D8B#32
  | 21 => 0x4004CCDC#32
  | 22 => 0xBFF9B91C#32
  | 23 => 0x3F8A248E#32
  | 24 => 0xBE979598#32
  | 25 => 0xBFBDD25C#32
  | 26 => 0x3FF6D996#32
  | 27 => 0xBF24E325#32
  | 28 => 0x405CB84F#32
  | 29 => 0xBCAE9E6A#32
  | 30 => 0x3F928713#32
  | 31 => 0x40602B5A#32
  | 32 => 0x3D4CDFF5#32
  | 33 => 0x3FC36634#32
  | 34 => 0x3FE1F822#32
  | 35 => 0xBF7D4328#32
  | 36 => 0x3F1D4320#32
  | 37 => 0x3F605F44#32
  | 38 => 0x3F8A9ABE#32
  | 39 => 0x3FA14A29#32
  | 40 => 0x40244671#32
  | 41 => 0x3F532388#32
  | 42 => 0x3EF431A4#32
  | 43 => 0x4029FAC8#32
  | 44 => 0xBE8A1200#32
  | 45 => 0xBE472456#32
  | 46 => 0x3EACE2A4#32
  | 47 => 0x3FE93FE0#32
  | 48 => 0x3FFCE85A#32
  | 49 => 0xBD847C4E#32
  | 50 => 0x3F86FF32#32
  | 51 => 0x3FBC0D09#32
  | 52 => 0xBF2E6CD1#32
  | 53 => 0xBE990AAE#32
  | 54 => 0x3FDAA17F#32
  | 55 => 0xBF1ABF01#32
  | 56 => 0x3DE182CE#32
  | 57 => 0x3E8A5964#32
  | 58 => 0x3DCFF140#32
  | 59 => 0x3FD8D9DC#32
  | 60 => 0xBDAF56A0#32
  | 61 => 0xBD2F066A#32
  | 62 => 0x3E0A3A69#32
  | 63 => 0xBD689BB4#32
  | 64 => 0x3EF4F566#32
  | 65 => 0xBD4CF10D#32
  | 66 => 0x3E9133B3#32
  | 67 => 0x403464DF#32
  | 68 => 0x40231333#32
  | 69 => 0xBF117996#32
  | 70 => 0xBF45375B#32
  | 71 => 0x3FA0CFC0#32
  | 72 => 0xBDB3E8CB#32
  | 73 => 0xBED0658F#32
  | 74 => 0xBF140844#32
  | 75 => 0x3F1E34A8#32
  | 76 => 0x3E31486F#32
  | 77 => 0x3F304B48#32
  | 78 => 0xBE7C2C83#32
  | 79 => 0xBDB1D193#32
  | 80 => 0xBF53AA6B#32
  | 81 => 0xBEE4F5BE#32
  | 82 => 0xBED4142E#32
  | 83 => 0x3EE186A1#32
  | 84 => 0x3D058AEB#32
  | 85 => 0x3F5FE398#32
  | 86 => 0xBF318987#32
  | 87 => 0xBDE930B6#32
  | 88 => 0x3ECD45B5#32
  | 89 => 0xBEF0DC6C#32
  | 90 => 0x3CDFB838#32
  | 91 => 0x3EC7671E#32
  | 92 => 0x3E96BB64#32
  | 93 => 0x3ED66990#32
  | 94 => 0x3F99707C#32
  | 95 => 0x3EBF2164#32
  | 96 => 0x3F8458FC#32
  | 97 => 0x3F2785A8#32
  | 98 => 0xBE64E9E6#32
  | 99 => 0xBF4F0EF8#32
  | 100 => 0x3FD0E11A#32
  | 101 => 0xBEDBD522#32
  | 102 => 0x401D665C#32
  | 103 => 0x3F05A9E0#32
  | 104 => 0x400BDDE8#32
  | 105 => 0xBFFF7A92#32
  | 106 => 0x3E3BBEDD#32
  | 107 => 0xBDD42A8E#32
  | 108 => 0x3FB860E3#32
  | 109 => 0x3FA9363A#32
  | 110 => 0xBF447385#32
  | 111 => 0x3E7E624F#32
  | 112 => 0xBE86D281#32
  | 113 => 0x40A3D5E5#32
  | 114 => 0x3F680690#32
  | 115 => 0x3FDBB78C#32
  | 116 => 0x3FCA30B4#32
  | 117 => 0x3FDE5934#32
  | 118 => 0x3F102DE8#32
  | 119 => 0x3F473853#32
  | 120 => 0x404384A4#32
  | 121 => 0x3F87011A#32
  | 122 => 0xBF096CD4#32
  | 123 => 0xBF007CD5#32
  | 124 => 0x3F7AB164#32
  | 125 => 0xBF613DFE#32
  | 126 => 0x3F87FBEC#32
  | 127 => 0x3F80B1F6#32
  | _ => 0#32

noncomputable abbrev lit0t0_488 (i : Nat) : BitVec 32 := match i % 128 with
  | 0 => 0x3FB1D0AA#32
  | 1 => 0xBDF15F9F#32
  | 2 => 0x3D041ECC#32
  | 3 => 0xBDA67DFB#32
  | 4 => 0x3FA55114#32
  | 5 => 0x40834213#32
  | 6 => 0x3F1B3AC5#32
  | 7 => 0x3EC52497#32
  | 8 => 0x3C9E5A8C#32
  | 9 => 0xBF9017B7#32
  | 10 => 0xBED74D2C#32
  | 11 => 0x400C0A79#32
  | 12 => 0xBF5AF738#32
  | 13 => 0x3D82AE94#32
  | 14 => 0x408BB795#32
  | 15 => 0x400BF86B#32
  | 16 => 0xBEB91585#32
  | 17 => 0x4062EC3F#32
  | 18 => 0xBF05068F#32
  | 19 => 0xBE93B200#32
  | 20 => 0xBF302CAC#32
  | 21 => 0xBE1E6A67#32
  | 22 => 0xBF5E2430#32
  | 23 => 0xBF371976#32
  | 24 => 0xBEB3EAC8#32
  | 25 => 0xBEB5952B#32
  | 26 => 0xBF8B66D6#32
  | 27 => 0x3FC1AFDA#32
  | 28 => 0x3E337D37#32
  | 29 => 0xBF01E796#32
  | 30 => 0x3ECFE7E2#32
  | 31 => 0x3FF70FE2#32
  | 32 => 0xBFB9EAB3#32
  | 33 => 0x40ACB68B#32
  | 34 => 0xBDA3833A#32
  | 35 => 0xBF16EBD1#32
  | 36 => 0x40B04F69#32
  | 37 => 0x4024C388#32
  | 38 => 0x400AC288#32
  | 39 => 0xBF8B5878#32
  | 40 => 0x3F9B41F4#32
  | 41 => 0xBF194ACB#32
  | 42 => 0x3F702432#32
  | 43 => 0x4042EA46#32
  | 44 => 0x3F1C161B#32
  | 45 => 0x3F1A04FA#32
  | 46 => 0xBF775EF2#32
  | 47 => 0x3E221DD0#32
  | 48 => 0xBF316692#32
  | 49 => 0x3EA5F0D0#32
  | 50 => 0x3EA7A256#32
  | 51 => 0x400CC198#32
  | 52 => 0xBF5E632B#32
  | 53 => 0x3FD792B9#32
  | 54 => 0x3F37A74B#32
  | 55 => 0xBF1EF48B#32
  | 56 => 0xBF55448C#32
  | 57 => 0xBF0C2024#32
  | 58 => 0x3FC50BB3#32
  | 59 => 0x3C0C2E96#32
  | 60 => 0xBF5C7F66#32
  | 61 => 0xBF825330#32
  | 62 => 0xBF29225E#32
  | 63 => 0x4074B37C#32
  | 64 => 0xBDE5D479#32
  | 65 => 0x3FDF0EC6#32
  | 66 => 0xBE0B194C#32
  | 67 => 0x3E5BF79A#32
  | 68 => 0xBE8719F2#32
  | 69 => 0x3F5C0410#32
  | 70 => 0x3F940C4F#32
  | 71 => 0xBF33794A#32
  | 72 => 0x3EE18609#32
  | 73 => 0x3E9C60FC#32
  | 74 => 0x3FC15ABB#32
  | 75 => 0xBF87F564#32
  | 76 => 0x3F87B2B3#32
  | 77 => 0x3F1BE5D3#32
  | 78 => 0xBF9B6AB2#32
  | 79 => 0xBD097FC5#32
  | 80 => 0xBEFC6756#32
  | 81 => 0x3D959990#32
  | 82 => 0x3F2BF5D3#32
  | 83 => 0x3E42FCE0#32
  | 84 => 0xBF279D57#32
  | 85 => 0x3EDDDBAA#32
  | 86 => 0x3EF13C21#32
  | 87 => 0xBE8F332C#32
  | 88 => 0x3EB8075C#32
  | 89 => 0xBE8BB375#32
  | 90 => 0x3F384A51#32
  | 91 => 0xBFEC4ED6#32
  | 92 => 0xBF9D0A46#32
  | 93 => 0x3FC642D2#32
  | 94 => 0xBEFF3948#32
  | 95 => 0x3F891A44#32
  | 96 => 0x40408E0D#32
  | 97 => 0x3F788232#32
  | 98 => 0x3DC80ECA#32
  | 99 => 0x3FAF1A10#32
  | 100 => 0x403BF035#32
  | 101 => 0xBF030574#32
  | 102 => 0xBF003067#32
  | 103 => 0x405BA17C#32
  | 104 => 0xBEF18121#32
  | 105 => 0xBD435D54#32
  | 106 => 0x3D9EB1F0#32
  | 107 => 0xBB66365E#32
  | 108 => 0x403E20CC#32
  | 109 => 0x407E7E80#32
  | 110 => 0xBF611F5B#32
  | 111 => 0xBE9CB9A4#32
  | 112 => 0x3F34EACA#32
  | 113 => 0x40327D4A#32
  | 114 => 0xBF43D4FC#32
  | 115 => 0xBEEEDA58#32
  | 116 => 0x3F364A26#32
  | 117 => 0xBE5A9E47#32
  | 118 => 0x3EB5C2D2#32
  | 119 => 0x3FAE22F2#32
  | 120 => 0x401FC503#32
  | 121 => 0xBE8B91E1#32
  | 122 => 0x3EEDBE98#32
  | 123 => 0x40183676#32
  | 124 => 0x4013EECF#32
  | 125 => 0x40611F60#32
  | 126 => 0xBEF6C2A7#32
  | 127 => 0x3ED1E489#32
  | _ => 0#32

noncomputable abbrev lit0t0_489 (i : Nat) : BitVec 32 := match i % 128 with
  | 0 => 0x3FD12BD4#32
  | 1 => 0x3F023983#32
  | 2 => 0x3F43B7E6#32
  | 3 => 0x3FB1B72D#32
  | 4 => 0x3FA7AFD0#32
  | 5 => 0xBFA64465#32
  | 6 => 0xBE3E3674#32
  | 7 => 0xBE1DE491#32
  | 8 => 0x3FC2D610#32
  | 9 => 0xBF5385FF#32
  | 10 => 0xBF7908A0#32
  | 11 => 0x3FBE82E6#32
  | 12 => 0xBE732C59#32
  | 13 => 0xBE9A50E9#32
  | 14 => 0xBE8556D9#32
  | 15 => 0xBF9E903D#32
  | 16 => 0xBE90FFA7#32
  | 17 => 0x3F80AA7B#32
  | 18 => 0x3F4C474B#32
  | 19 => 0x3EA6E6B0#32
  | 20 => 0x3ECB0EF3#32
  | 21 => 0xBE3B6E56#32
  | 22 => 0xBF1A411A#32
  | 23 => 0x3F96D43E#32
  | 24 => 0x3ED8B9EE#32
  | 25 => 0xBF05F8EF#32
  | 26 => 0xBF109104#32
  | 27 => 0x407F08B8#32
  | 28 => 0xBDAADD44#32
  | 29 => 0x3FCA81F2#32
  | 30 => 0x3C936F9E#32
  | 31 => 0xBEB9F6F0#32
  | 32 => 0x3D1EC52B#32
  | 33 => 0x3D555CEC#32
  | 34 => 0x3FA0AF97#32
  | 35 => 0x3E632441#32
  | 36 => 0xBF265D39#32
  | 37 => 0x4025A2C8#32
  | 38 => 0xBF0B97B6#32
  | 39 => 0x3EE73A55#32
  | 40 => 0xBF96FB6A#32
  | 41 => 0xBF8BFDD9#32
  | 42 => 0x4033A67C#32
  | 43 => 0x3DE68006#32
  | 44 => 0x3E218F1B#32
  | 45 => 0xBD93C5A9#32
  | 46 => 0xBF672AAD#32
  | 47 => 0xBF1354FC#32
  | 48 => 0x3DAEAAD0#32
  | 49 => 0xBC40F8EE#32
  | 50 => 0x405EC2A8#32
  | 51 => 0xBE97F554#32
  | 52 => 0x409124CA#32
  | 53 => 0xBE796429#32
  | 54 => 0x4000847F#32
  | 55 => 0x402A3464#32
  | 56 => 0x3EB3ECBC#32
  | 57 => 0xBE45397E#32
  | 58 => 0x3E73AD3B#32
  | 59 => 0xBED6E59B#32
  | 60 => 0x3F21D56E#32
  | 61 => 0x3F58BF5D#32
  | 62 => 0xBE7C5C70#32
  | 63 => 0x3EC64B2B#32
  | 64 => 0x3FB71251#32
  | 65 => 0x3F41CCE7#32
  | 66 => 0xBEC0B54B#32
  | 67 => 0x408FD69F#32
  | 68 => 0xBEE861B4#32
  | 69 => 0x3F028258#32
  | 70 => 0xBF730502#32
  | 71 => 0xBF398C82#32
  | 72 => 0x3FE6E776#32
  | 73 => 0xBF1C320A#32
  | 74 => 0xBF790C34#32
  | 75 => 0x403A5C14#32
  | 76 => 0x40279DC6#32
  | 77 => 0xBF033A5E#32
  | 78 => 0xBF2B67B9#32
  | 79 => 0xBF3C5105#32
  | 80 => 0x409D97C4#32
  | 81 => 0x400CD80B#32
  | 82 => 0x402366A0#32
  | 83 => 0x40649D79#32
  | 84 => 0x3EF1E64C#32
  | 85 => 0x3D7B5021#32
  | 86 => 0x401173AF#32
  | 87 => 0xBF7DA13C#32
  | 88 => 0x3E324ECD#32
  | 89 => 0x3E75E55F#32
  | 90 => 0x3F0B964D#32
  | 91 => 0x4036AE51#32
  | 92 => 0x406A21EB#32
  | 93 => 0x3FE231ED#32
  | 94 => 0x40336542#32
  | 95 => 0x3F3CED56#32
  | 96 => 0x3F047324#32
  | 97 => 0xBF71E5FE#32
  | 98 => 0x3F906002#32
  | 99 => 0x3E9161F7#32
  | 100 => 0xBEE4B51F#32
  | 101 => 0x3E2233FF#32
  | 102 => 0xBD9947BE#32
  | 103 => 0xBEB9F836#32
  | 104 => 0x3F40F90D#32
  | 105 => 0xBF0E89FD#32
  | 106 => 0xBDEDEE72#32
  | 107 => 0x3F849729#32
  | 108 => 0x3DE6B3F7#32
  | 109 => 0xBFCB33C6#32
  | 110 => 0x3EFB4314#32
  | 111 => 0x40CFD74E#32
  | 112 => 0x3E980B4B#32
  | 113 => 0x3EFCBD9C#32
  | 114 => 0x3FB752A4#32
  | 115 => 0x401FA0E8#32
  | 116 => 0xBEECCDD8#32
  | 117 => 0xBEBABD50#32
  | 118 => 0x3FA0B2C8#32
  | 119 => 0x3F8ACB1C#32
  | 120 => 0xBF8E6377#32
  | 121 => 0x3E72AC9B#32
  | 122 => 0xBEEE4518#32
  | 123 => 0x3E90B3F1#32
  | 124 => 0xBE998B7F#32
  | 125 => 0x3F72C3A2#32
  | 126 => 0x400F1FBF#32
  | 127 => 0x3FA246DC#32
  | _ => 0#32

noncomputable abbrev lit0t0_490 (i : Nat) : BitVec 32 := match i % 128 with
  | 0 => 0xBF97F199#32
  | 1 => 0x3FBC7558#32
  | 2 => 0x3F2E3ADF#32
  | 3 => 0x3F050CA0#32
  | 4 => 0x3EC9A9E4#32
  | 5 => 0xBF77EF49#32
  | 6 => 0x3F4DC52B#32
  | 7 => 0x3F18FC18#32
  | 8 => 0x40AB9E86#32
  | 9 => 0x3F91BF24#32
  | 10 => 0xBFC236A7#32
  | 11 => 0x3EA46EF3#32
  | 12 => 0xBF0B726C#32
  | 13 => 0x3DA7D986#32
  | 14 => 0x4003D6A2#32
  | 15 => 0x3F40356F#32
  | 16 => 0x3F99543B#32
  | 17 => 0x3FC307E5#32
  | 18 => 0xBF55FBFA#32
  | 19 => 0x3EE334A2#32
  | 20 => 0x3F9BAD1E#32
  | 21 => 0x3EF59000#32
  | 22 => 0xBDF1931E#32
  | 23 => 0x3FC3D432#32
  | 24 => 0x3FAC461B#32
  | 25 => 0x3F2BABDE#32
  | 26 => 0xBEA23F0C#32
  | 27 => 0xBFCD40DD#32
  | 28 => 0x3F665BFF#32
  | 29 => 0x401DBDD3#32
  | 30 => 0xBDEFF1F7#32
  | 31 => 0x3FDBD94F#32
  | 32 => 0x3FC45D6A#32
  | 33 => 0xBE73F71E#32
  | 34 => 0xBF7F3372#32
  | 35 => 0x3E33C690#32
  | 36 => 0x400A6D94#32
  | 37 => 0x3DDE7C8F#32
  | 38 => 0x3FB36FA8#32
  | 39 => 0x3F639C3E#32
  | 40 => 0x3FF0538F#32
  | 41 => 0xBF480FE4#32
  | 42 => 0x3FA5DECB#32
  | 43 => 0xBF05E710#32
  | 44 => 0x401F1B03#32
  | 45 => 0x3F605696#32
  | 46 => 0xBEAEB9AE#32
  | 47 => 0x3D1A1D62#32
  | 48 => 0xBF0D4346#32
  | 49 => 0x405770B7#32
  | 50 => 0x3F1BE9AE#32
  | 51 => 0x40DB2F31#32
  | 52 => 0xBD24AC9A#32
  | 53 => 0xBF7DE2F7#32
  | 54 => 0xBD2BAEC7#32
  | 55 => 0x3F3F29B3#32
  | 56 => 0xBEF87152#32
  | 57 => 0xBFB9953F#32
  | 58 => 0x3F21A818#32
  | 59 => 0xBFD4E417#32
  | 60 => 0xBF13E914#32
  | 61 => 0xBEF412D2#32
  | 62 => 0xBE033D08#32
  | 63 => 0x3FFDC4F8#32
  | 64 => 0x3F787036#32
  | 65 => 0x40177A7B#32
  | 66 => 0xBECCDBCE#32
  | 67 => 0x3F2503E0#32
  | 68 => 0x3FF81D0F#32
  | 69 => 0x3F17A87F#32
  | 70 => 0xBED3307C#32
  | 71 => 0xBD548836#32
  | 72 => 0x3F4E9B74#32
  | 73 => 0x3F87C8EB#32
  | 74 => 0x3DEC4806#32
  | 75 => 0x4024B21D#32
  | 76 => 0xBF127D66#32
  | 77 => 0x3F126A22#32
  | 78 => 0x3FD3A882#32
  | 79 => 0x3EAFC62D#32
  | 80 => 0xBEBD151E#32
  | 81 => 0x3F6A247F#32
  | 82 => 0x3F483AFA#32
  | 83 => 0x3F05FF1A#32
  | 84 => 0x3FF3BB0A#32
  | 85 => 0xBFB81C57#32
  | 86 => 0x3FBA6D88#32
  | 87 => 0x402F764B#32
  | 88 => 0x3D7E4AFA#32
  | 89 => 0x3F2F83EC#32
  | 90 => 0x3F25C942#32
  | 91 => 0x400C4A3A#32
  | 92 => 0xBD012ED7#32
  | 93 => 0xBD658DF3#32
  | 94 => 0x3EBDA28A#32
  | 95 => 0xBE5DB517#32
  | 96 => 0xBE2804E3#32
  | 97 => 0x3F9E022D#32
  | 98 => 0xBE214C53#32
  | 99 => 0x3F824CFB#32
  | 100 => 0xBE185FAF#32
  | 101 => 0xBED6A5FB#32
  | 102 => 0x3FF1B446#32
  | 103 => 0x3BE48B90#32
  | 104 => 0x406DF742#32
  | 105 => 0x3EB3A394#32
  | 106 => 0xBF4AA20E#32
  | 107 => 0x3FBC49B2#32
  | 108 => 0x3CCF3AA1#32
  | 109 => 0x3EF16BE4#32
  | 110 => 0xBD696639#32
  | 111 => 0xBEF356D0#32
  | 112 => 0x3BCB07B0#32
  | 113 => 0xBF695BA2#32
  | 114 => 0x402719B2#32
  | 115 => 0xBFA23537#32
  | 116 => 0xBDF810CD#32
  | 117 => 0x3FBC4B42#32
  | 118 => 0x3EC1B5B3#32
  | 119 => 0x3D3B0D92#32
  | 120 => 0x3E7CF160#32
  | 121 => 0x3FE4FE4A#32
  | 122 => 0x3FF44675#32
  | 123 => 0x40363F21#32
  | 124 => 0x3F0D626A#32
  | 125 => 0x3EB4836C#32
  | 126 => 0xBE1BFAC9#32
  | 127 => 0x3EADDC17#32
  | _ => 0#32

noncomputable abbrev lit0t0_491 (i : Nat) : BitVec 32 := match i % 128 with
  | 0 => 0x40BE3967#32
  | 1 => 0x40093093#32
  | 2 => 0xBEA3620E#32
  | 3 => 0xBCD1DE63#32
  | 4 => 0xBDFC2D70#32
  | 5 => 0xBF3B31E8#32
  | 6 => 0xBEBC4C67#32
  | 7 => 0x3F2CD25D#32
  | 8 => 0x3F4754AE#32
  | 9 => 0x3FB089A3#32
  | 10 => 0x3FC53B35#32
  | 11 => 0x3FB244B6#32
  | 12 => 0xBF2602C8#32
  | 13 => 0x3E9B2B2B#32
  | 14 => 0xBF65B1CE#32
  | 15 => 0x3D4292D3#32
  | 16 => 0x3C562F58#32
  | 17 => 0xBF33DB71#32
  | 18 => 0xBD629DE4#32
  | 19 => 0x3D8B9084#32
  | 20 => 0x3F7306C4#32
  | 21 => 0xBF3A19FF#32
  | 22 => 0x400C4380#32
  | 23 => 0x3B299B23#32
  | 24 => 0x3F02FDF9#32
  | 25 => 0x3C5A5648#32
  | 26 => 0x3F0F4D96#32
  | 27 => 0x4005B99C#32
  | 28 => 0xBF614058#32
  | 29 => 0x3FD359EF#32
  | 30 => 0x3F0D0F58#32
  | 31 => 0x3FA1A4B1#32
  | 32 => 0x402F7E2D#32
  | 33 => 0x3FFF4240#32
  | 34 => 0x3F48E544#32
  | 35 => 0xBF6AE01A#32
  | 36 => 0x3FE16B56#32
  | 37 => 0xBF5ECF50#32
  | 38 => 0x3F87AD6C#32
  | 39 => 0x401938A9#32
  | 40 => 0x3F414EA3#32
  | 41 => 0x3F284F06#32
  | 42 => 0x3EB99E0C#32
  | 43 => 0xBE5152F1#32
  | 44 => 0xBEA51849#32
  | 45 => 0xBEC5CC6D#32
  | 46 => 0x402D0676#32
  | 47 => 0xBEE9692E#32
  | 48 => 0x3F95CFDA#32
  | 49 => 0x3F6FA2F6#32
  | 50 => 0xBF41A91E#32
  | 51 => 0x3EA95AB8#32
  | 52 => 0x409A9193#32
  | 53 => 0x3F0B8CB8#32
  | 54 => 0x3FB19A3A#32
  | 55 => 0x3F5D46F8#32
  | 56 => 0x40209C30#32
  | 57 => 0xBF49744A#32
  | 58 => 0x3EAC30E7#32
  | 59 => 0xBF328EBF#32
  | 60 => 0xBEFA89FB#32
  | 61 => 0xBE3AF213#32
  | 62 => 0x3FA82FE0#32
  | 63 => 0x4021EF73#32
  | 64 => 0x3F1B5F34#32
  | 65 => 0x3F46F194#32
  | 66 => 0x3F31D071#32
  | 67 => 0x3F8B8BFE#32
  | 68 => 0x4000B2B1#32
  | 69 => 0xBD459E3B#32
  | 70 => 0xBEC6D79E#32
  | 71 => 0xBF2A6927#32
  | 72 => 0xBDAF5D1B#32
  | 73 => 0xBF954BEC#32
  | 74 => 0xBFDBB104#32
  | 75 => 0x3E445026#32
  | 76 => 0x3F7A33F2#32
  | 77 => 0xBEB646F7#32
  | 78 => 0xBFC48E90#32
  | 79 => 0x3F7C5891#32
  | 80 => 0x40242B29#32
  | 81 => 0xBF9587D9#32
  | 82 => 0xBFAFE161#32
  | 83 => 0x3F2523AD#32
  | 84 => 0x3FF76470#32
  | 85 => 0x406099B8#32
  | 86 => 0xBF682DD8#32
  | 87 => 0xBF2AF891#32
  | 88 => 0xBFC9B0D9#32
  | 89 => 0x3F22FE15#32
  | 90 => 0x3E80B090#32
  | 91 => 0x3F2DD96B#32
  | 92 => 0x3CBDEDCF#32
  | 93 => 0x3F1D2A57#32
  | 94 => 0x3F06ED44#32
  | 95 => 0x3FADAE93#32
  | 96 => 0x3F88C6B6#32
  | 97 => 0xBF38D397#32
  | 98 => 0x3F201684#32
  | 99 => 0x3ECBA8DC#32
  | 100 => 0xBF128A57#32
  | 101 => 0x3F3E9CC0#32
  | 102 => 0x40386F44#32
  | 103 => 0xBF55D299#32
  | 104 => 0x3C8C4550#32
  | 105 => 0x3F03CB54#32
  | 106 => 0x3F151132#32
  | 107 => 0xBFC53FBA#32
  | 108 => 0x3FF9C3B8#32
  | 109 => 0xBF1055BF#32
  | 110 => 0xBE84A65B#32
  | 111 => 0x3F41CA4C#32
  | 112 => 0x405B0154#32
  | 113 => 0x3F02517A#32
  | 114 => 0xBE6FBAB2#32
  | 115 => 0x3F995D43#32
  | 116 => 0x3ED2AA68#32
  | 117 => 0x400B3BDB#32
  | 118 => 0x402D09BD#32
  | 119 => 0x3F2BBD72#32
  | 120 => 0xBF31042D#32
  | 121 => 0xBE6DBEAD#32
  | 122 => 0x40157C97#32
  | 123 => 0x40284334#32
  | 124 => 0x3EE459F2#32
  | 125 => 0x4000B4C2#32
  | 126 => 0x3FC42A1F#32
  | 127 => 0xBE454AEA#32
  | _ => 0#32

noncomputable abbrev lit0t0_492 (i : Nat) : BitVec 32 := match i % 128 with
  | 0 => 0x3EE78A17#32
  | 1 => 0xBD53A11C#32
  | 2 => 0x3F6627FD#32
  | 3 => 0x3FB7FA82#32
  | 4 => 0xBF4F1BE2#32
  | 5 => 0x3F02E7EE#32
  | 6 => 0x3E5FD05C#32
  | 7 => 0xBEEA4B9D#32
  | 8 => 0x3FB645B9#32
  | 9 => 0xBE392B41#32
  | 10 => 0xBF9B177F#32
  | 11 => 0xBCD86AB3#32
  | 12 => 0x3FFBD52E#32
  | 13 => 0xBF726554#32
  | 14 => 0x400F6777#32
  | 15 => 0xBF86E8FF#32
  | 16 => 0xBF877474#32
  | 17 => 0xBF735942#32
  | 18 => 0x3FD9593B#32
  | 19 => 0x3F526AA7#32
  | 20 => 0x403EFCCB#32
  | 21 => 0x3F0D29B5#32
  | 22 => 0x3F8796CA#32
  | 23 => 0x4005AAA1#32
  | 24 => 0xBF65DF2C#32
  | 25 => 0xBE087747#32
  | 26 => 0xBEDAB6C7#32
  | 27 => 0x3FF95AC9#32
  | 28 => 0x3D82E125#32
  | 29 => 0x405BFAB2#32
  | 30 => 0xBE9D8B00#32
  | 31 => 0xBF9B3182#32
  | 32 => 0xBF9DC618#32
  | 33 => 0x3F8BD315#32
  | 34 => 0xBFE88E00#32
  | 35 => 0xBF25C2EC#32
  | 36 => 0xBF83C4F8#32
  | 37 => 0xBE108752#32
  | 38 => 0xBF5A7A1D#32
  | 39 => 0x3F5A5B3F#32
  | 40 => 0x3FC3E028#32
  | 41 => 0x40388A62#32
  | 42 => 0xBF1B450E#32
  | 43 => 0xBF1CB883#32
  | 44 => 0xBF726BB6#32
  | 45 => 0x3F122D38#32
  | 46 => 0x3F06E9AE#32
  | 47 => 0xBF96350E#32
  | 48 => 0x40046291#32
  | 49 => 0x403110F7#32
  | 50 => 0x3FBA2D92#32
  | 51 => 0x3FBCF2DB#32
  | 52 => 0xBD95FC6D#32
  | 53 => 0x3ECBC754#32
  | 54 => 0x3F9954A2#32
  | 55 => 0xBEF22A9B#32
  | 56 => 0xBF5B5243#32
  | 57 => 0x3F613A36#32
  | 58 => 0x3F9DE768#32
  | 59 => 0xBE2B1DFD#32
  | 60 => 0x4008F841#32
  | 61 => 0xBF6B92EB#32
  | 62 => 0xBF436791#32
  | 63 => 0xBE8E58FC#32
  | 64 => 0xBD0EF3A8#32
  | 65 => 0x40D9EB7C#32
  | 66 => 0x3FD49A20#32
  | 67 => 0x3F2C8483#32
  | 68 => 0xBF2E1938#32
  | 69 => 0x3F914B9E#32
  | 70 => 0xBF9943EB#32
  | 71 => 0xBF3CC0AA#32
  | 72 => 0xBD682B08#32
  | 73 => 0xBE69DBDF#32
  | 74 => 0x3EBF9EC9#32
  | 75 => 0x3F063FB8#32
  | 76 => 0x3D9996A2#32
  | 77 => 0x3FA427F5#32
  | 78 => 0xBEEA48E0#32
  | 79 => 0x3F838FA8#32
  | 80 => 0x3F9F5F34#32
  | 81 => 0xBF5493DE#32
  | 82 => 0x40023228#32
  | 83 => 0x3F0BC9AE#32
  | 84 => 0x408A6662#32
  | 85 => 0x403B24C5#32
  | 86 => 0xBF71079B#32
  | 87 => 0x3E66B8D0#32
  | 88 => 0x4046AC2E#32
  | 89 => 0x3F616CD6#32
  | 90 => 0xBFE1CA66#32
  | 91 => 0xBF07339E#32
  | 92 => 0x4010D488#32
  | 93 => 0xBBF281B5#32
  | 94 => 0x3FAFD392#32
  | 95 => 0x403CE7A4#32
  | 96 => 0x3FECA967#32
  | 97 => 0x3F7FABB5#32
  | 98 => 0xBF544896#32
  | 99 => 0x3EB48E98#32
  | 100 => 0x3F081D5C#32
  | 101 => 0xBD8B498B#32
  | 102 => 0x3F35D484#32
  | 103 => 0xBD743E4C#32
  | 104 => 0x3FD7975C#32
  | 105 => 0x3F70D556#32
  | 106 => 0x4086108C#32
  | 107 => 0x3F9E63F8#32
  | 108 => 0x3FF0D6B6#32
  | 109 => 0x3ED27D68#32
  | 110 => 0xBF08AC13#32
  | 111 => 0x3F9BF684#32
  | 112 => 0x40A6EFDF#32
  | 113 => 0x3F3B44B6#32
  | 114 => 0x3F63EB14#32
  | 115 => 0xBF186FA8#32
  | 116 => 0x3D9B3707#32
  | 117 => 0xBF2C1616#32
  | 118 => 0x402640EA#32
  | 119 => 0x3FC66482#32
  | 120 => 0xBEC8D765#32
  | 121 => 0xBEC37954#32
  | 122 => 0x3ECCC8EC#32
  | 123 => 0xBDC13A75#32
  | 124 => 0xBFA15599#32
  | 125 => 0x3F8A8322#32
  | 126 => 0xBF6EA0AE#32
  | 127 => 0xBFA23623#32
  | _ => 0#32

noncomputable abbrev lit0t0_493 (i : Nat) : BitVec 32 := match i % 128 with
  | 0 => 0x3F1266A0#32
  | 1 => 0x401A2DF8#32
  | 2 => 0x40086394#32
  | 3 => 0x404AC445#32
  | 4 => 0xBF984748#32
  | 5 => 0x40405333#32
  | 6 => 0x3FD566EA#32
  | 7 => 0x3FAF8AAC#32
  | 8 => 0xBF1CC1EA#32
  | 9 => 0x3F5C7910#32
  | 10 => 0xBEDF484B#32
  | 11 => 0x3EE89854#32
  | 12 => 0x4082DB7A#32
  | 13 => 0xBF0CEE4F#32
  | 14 => 0x3F2A9DC5#32
  | 15 => 0x3E525F90#32
  | 16 => 0x3FBF32E7#32
  | 17 => 0xBF458ACD#32
  | 18 => 0x3ED9EA18#32
  | 19 => 0xBF5F877B#32
  | 20 => 0x3F458A9F#32
  | 21 => 0xBF11F35E#32
  | 22 => 0x3E1E15C9#32
  | 23 => 0x3E9A93E4#32
  | 24 => 0x3FAB8CFA#32
  | 25 => 0x3F1E9814#32
  | 26 => 0x40305AFA#32
  | 27 => 0x401E9941#32
  | 28 => 0xBF80A067#32
  | 29 => 0x3EBEA54D#32
  | 30 => 0x3FA66BAC#32
  | 31 => 0xBF2B45FF#32
  | 32 => 0xBF7E37E0#32
  | 33 => 0x3FA0FE6A#32
  | 34 => 0x3F067265#32
  | 35 => 0x3EF8BAD6#32
  | 36 => 0x404B71BB#32
  | 37 => 0xBD729CFA#32
  | 38 => 0x3EFB9428#32
  | 39 => 0x3FA33175#32
  | 40 => 0xBF72FB50#32
  | 41 => 0xBD28D1E2#32
  | 42 => 0x3F125478#32
  | 43 => 0x4046F634#32
  | 44 => 0x3FBDFF7D#32
  | 45 => 0x40109E03#32
  | 46 => 0xBEEA6CCC#32
  | 47 => 0xBE2412E1#32
  | 48 => 0xBED17AFF#32
  | 49 => 0x3F702FA0#32
  | 50 => 0x4081DF4A#32
  | 51 => 0xBF979624#32
  | 52 => 0x3F213DCB#32
  | 53 => 0x3E5A4EFC#32
  | 54 => 0x406BAA0D#32
  | 55 => 0x3ECD1E8E#32
  | 56 => 0xBFB83C7C#32
  | 57 => 0x40172226#32
  | 58 => 0x3F4D24E6#32
  | 59 => 0x400138A7#32
  | 60 => 0xBF4B12AA#32
  | 61 => 0xBF03258C#32
  | 62 => 0x3D43C5FF#32
  | 63 => 0xBFDE2D0B#32
  | 64 => 0xBEC07ABD#32
  | 65 => 0x3E7CD5F2#32
  | 66 => 0xBE1EDA7F#32
  | 67 => 0xBE7CD4D2#32
  | 68 => 0x3F2903A2#32
  | 69 => 0x3FB8008E#32
  | 70 => 0x3FF8B318#32
  | 71 => 0x3F1C5525#32
  | 72 => 0xBE83381E#32
  | 73 => 0xBDC6C236#32
  | 74 => 0x3E2A7536#32
  | 75 => 0x4031BEB5#32
  | 76 => 0x3E5DEB2F#32
  | 77 => 0x3FAD583E#32
  | 78 => 0xBE7FA54F#32
  | 79 => 0xBEE2046A#32
  | 80 => 0xBEFBB926#32
  | 81 => 0x3EA3367B#32
  | 82 => 0xBF939F92#32
  | 83 => 0x3F9820E5#32
  | 84 => 0xBF1E2083#32
  | 85 => 0x3E98D58B#32
  | 86 => 0x3EAAA688#32
  | 87 => 0x3F65FFDA#32
  | 88 => 0xBFAAF725#32
  | 89 => 0x3D511E3D#32
  | 90 => 0xBFCA8D68#32
  | 91 => 0xBEA8DED6#32
  | 92 => 0x40842434#32
  | 93 => 0x3FFA1C43#32
  | 94 => 0x3F462E0E#32
  | 95 => 0x402C5FC4#32
  | 96 => 0xBF221401#32
  | 97 => 0x3F9B9BDC#32
  | 98 => 0xBF0FA2A4#32
  | 99 => 0xBDBBBB13#32
  | 100 => 0xBDB305C5#32
  | 101 => 0x40190AA5#32
  | 102 => 0x3FBF8181#32
  | 103 => 0x3F19BB99#32
  | 104 => 0xBEFFC8B4#32
  | 105 => 0xBF078619#32
  | 106 => 0xBF811BE2#32
  | 107 => 0x3FA0E565#32
  | 108 => 0x3F9612F4#32
  | 109 => 0x3F266028#32
  | 110 => 0xBFC04B30#32
  | 111 => 0x402F69A1#32
  | 112 => 0xBF5BD10C#32
  | 113 => 0xBF3D45FE#32
  | 114 => 0x4004244A#32
  | 115 => 0xBF188B23#32
  | 116 => 0x3F500EB6#32
  | 117 => 0x40177019#32
  | 118 => 0xBE99E322#32
  | 119 => 0xBF81FC6C#32
  | 120 => 0xBF12FDB5#32
  | 121 => 0xBF263DD4#32
  | 122 => 0x3F64A959#32
  | 123 => 0x3F713760#32
  | 124 => 0x40421AF5#32
  | 125 => 0x3FF03649#32
  | 126 => 0xBEC90AFA#32
  | 127 => 0xBF270526#32
  | _ => 0#32

noncomputable abbrev lit0t0_494 (i : Nat) : BitVec 32 := match i % 128 with
  | 0 => 0x3FA3E025#32
  | 1 => 0xBF84B6CA#32
  | 2 => 0x3E29ECB7#32
  | 3 => 0x3C8F39AA#32
  | 4 => 0xBFB7BBC6#32
  | 5 => 0x40085BE9#32
  | 6 => 0x40682EEA#32
  | 7 => 0x4036EFB7#32
  | 8 => 0xBF2AA709#32
  | 9 => 0x3F787E40#32
  | 10 => 0x3E88B77E#32
  | 11 => 0x3ECCBFAB#32
  | 12 => 0xBF6F193E#32
  | 13 => 0x3F49415E#32
  | 14 => 0xBF6742B8#32
  | 15 => 0x3EBEB9F3#32
  | 16 => 0xBE5227F6#32
  | 17 => 0xBF2B762A#32
  | 18 => 0x3F4ABB50#32
  | 19 => 0x3E796581#32
  | 20 => 0x3F228150#32
  | 21 => 0x3FEF4A95#32
  | 22 => 0x3FB86376#32
  | 23 => 0xBE94B6DA#32
  | 24 => 0xBF23A49B#32
  | 25 => 0xBE74A657#32
  | 26 => 0xBFB71937#32
  | 27 => 0x4012C23C#32
  | 28 => 0xBF41A4B4#32
  | 29 => 0x3E079212#32
  | 30 => 0x3F50B9DC#32
  | 31 => 0x3E5C929F#32
  | 32 => 0xBF2C96B3#32
  | 33 => 0x3F322A15#32
  | 34 => 0x3F6DADFC#32
  | 35 => 0xBF90E7B4#32
  | 36 => 0x3FBAA71B#32
  | 37 => 0xBE9DE063#32
  | 38 => 0x3EC5FF2C#32
  | 39 => 0xBFA196CB#32
  | 40 => 0x400030C5#32
  | 41 => 0x3F6BD56F#32
  | 42 => 0x3EA15CFD#32
  | 43 => 0xBFF89F96#32
  | 44 => 0xBF5EBB9F#32
  | 45 => 0x3F7E1304#32
  | 46 => 0x3D0DCEDB#32
  | 47 => 0x3F0F2860#32
  | 48 => 0x3F2A7D3B#32
  | 49 => 0xBC55FBB6#32
  | 50 => 0x3FBB90B0#32
  | 51 => 0x4074D624#32
  | 52 => 0x3DA70F92#32
  | 53 => 0x3FBB3164#32
  | 54 => 0x3E209F0E#32
  | 55 => 0x3F0E59DE#32
  | 56 => 0x404150E1#32
  | 57 => 0xBDE97DBA#32
  | 58 => 0xBFF29075#32
  | 59 => 0x3E75CDEA#32
  | 60 => 0xBD06987F#32
  | 61 => 0x3FE0AEA2#32
  | 62 => 0x3E8B3FFD#32
  | 63 => 0xBF80BC57#32
  | 64 => 0x3DBAA7C8#32
  | 65 => 0x3F5DF89A#32
  | 66 => 0xBE23501C#32
  | 67 => 0xBEA64AFE#32
  | 68 => 0x402096FA#32
  | 69 => 0xBE3594D7#32
  | 70 => 0xBEBB69D8#32
  | 71 => 0x3F915C25#32
  | 72 => 0x3D28D7D2#32
  | 73 => 0x3F262B18#32
  | 74 => 0x3F39EB20#32
  | 75 => 0x3FB70CFC#32
  | 76 => 0xBE14E358#32
  | 77 => 0x3F425183#32
  | 78 => 0x3E6C93E0#32
  | 79 => 0xBFA4863A#32
  | 80 => 0xBECDE65C#32
  | 81 => 0x3EA6D410#32
  | 82 => 0x3E64EE04#32
  | 83 => 0x3EDC8FFA#32
  | 84 => 0xBF86AD6F#32
  | 85 => 0x3F8B4463#32
  | 86 => 0xBF914E97#32
  | 87 => 0xBF2EAA8D#32
  | 88 => 0xBE23405C#32
  | 89 => 0xBF6D914C#32
  | 90 => 0x40D5CAD5#32
  | 91 => 0x3F006CBB#32
  | 92 => 0x3EBE1201#32
  | 93 => 0x40A466FC#32
  | 94 => 0x408076DC#32
  | 95 => 0xBD714216#32
  | 96 => 0x3FC9BCB1#32
  | 97 => 0x3F8FE3C0#32
  | 98 => 0xBF8236DD#32
  | 99 => 0xBF4806AC#32
  | 100 => 0xBF9AC200#32
  | 101 => 0x3DCC804D#32
  | 102 => 0x4000497C#32
  | 103 => 0xBEB2033C#32
  | 104 => 0xBE8A75C5#32
  | 105 => 0x3CA2DD78#32
  | 106 => 0x3F9AF327#32
  | 107 => 0xBF5DA5DF#32
  | 108 => 0xBE9E194C#32
  | 109 => 0xBE82FE72#32
  | 110 => 0x40168FD2#32
  | 111 => 0xBF86873E#32
  | 112 => 0xBEA33BD9#32
  | 113 => 0x3F2C0911#32
  | 114 => 0x3E03072D#32
  | 115 => 0xBF563A16#32
  | 116 => 0x3ED7FBD7#32
  | 117 => 0x3E2F6728#32
  | 118 => 0xBFB2D3AC#32
  | 119 => 0xBE01BB5A#32
  | 120 => 0x3EC11C90#32
  | 121 => 0x3F86EBD2#32
  | 122 => 0x4062923F#32
  | 123 => 0x3DA23D53#32
  | 124 => 0x4011A04E#32
  | 125 => 0xBEAB6583#32
  | 126 => 0xBF774C6C#32
  | 127 => 0xBEFF51C0#32
  | _ => 0#32

noncomputable abbrev lit0t0_495 (i : Nat) : BitVec 32 := match i % 128 with
  | 0 => 0x3E8EA957#32
  | 1 => 0x40244EE0#32
  | 2 => 0xBF5303E6#32
  | 3 => 0x3D81FB24#32
  | 4 => 0x3F3057A4#32
  | 5 => 0xBF68CBCF#32
  | 6 => 0x403FCAEF#32
  | 7 => 0xBF4B3D5C#32
  | 8 => 0xBEBD5B6E#32
  | 9 => 0xBE0516F5#32
  | 10 => 0xBE107577#32
  | 11 => 0x3FD8D99A#32
  | 12 => 0x3F381894#32
  | 13 => 0x3F7D492C#32
  | 14 => 0x3FF5FEA0#32
  | 15 => 0x400DBA9D#32
  | 16 => 0xBED65950#32
  | 17 => 0xBBF593D5#32
  | 18 => 0xBF647AAA#32
  | 19 => 0xBF3EF5D1#32
  | 20 => 0xBF5635DD#32
  | 21 => 0x3FE5AD76#32
  | 22 => 0x3FE639F3#32
  | 23 => 0x3FC9C820#32
  | 24 => 0x3FEBAFD2#32
  | 25 => 0x4009D22B#32
  | 26 => 0x3ECFD736#32
  | 27 => 0xBF8D55E1#32
  | 28 => 0xBED3D812#32
  | 29 => 0x3F492CA0#32
  | 30 => 0x3F3D7E5D#32
  | 31 => 0x4017AC65#32
  | 32 => 0x3FE3A571#32
  | 33 => 0x3EC9950E#32
  | 34 => 0xBE7F1349#32
  | 35 => 0xBEE92514#32
  | 36 => 0x3E75AA7F#32
  | 37 => 0x3F53DD34#32
  | 38 => 0xBEBC47E9#32
  | 39 => 0x402CE382#32
  | 40 => 0xBF23B7E9#32
  | 41 => 0xBF12484B#32
  | 42 => 0xBF501359#32
  | 43 => 0xBDA615AE#32
  | 44 => 0x3F837048#32
  | 45 => 0xBEB910C3#32
  | 46 => 0xBEA471D3#32
  | 47 => 0xBF81772E#32
  | 48 => 0x3F6176BC#32
  | 49 => 0x3ED3BAD8#32
  | 50 => 0x3C672FDA#32
  | 51 => 0xBE962668#32
  | 52 => 0x3F1587D5#32
  | 53 => 0xBEF708AE#32
  | 54 => 0xBF5B8A00#32
  | 55 => 0x3E2E489E#32
  | 56 => 0x4037AC19#32
  | 57 => 0xBF392A72#32
  | 58 => 0xBF28AC3B#32
  | 59 => 0xBEBD521D#32
  | 60 => 0xBF5818A4#32
  | 61 => 0x3FC02043#32
  | 62 => 0x3FC4357A#32
  | 63 => 0x3EAE8086#32
  | 64 => 0x3F956E9C#32
  | 65 => 0x40B071E2#32
  | 66 => 0x3FB2594C#32
  | 67 => 0x3EBA0290#32
  | 68 => 0x3EF14DFA#32
  | 69 => 0xBD007CA9#32
  | 70 => 0xBFA8D6F5#32
  | 71 => 0xBD9B58F4#32
  | 72 => 0xBF29557C#32
  | 73 => 0x40183DF9#32
  | 74 => 0x3FBB038B#32
  | 75 => 0xBED50D4B#32
  | 76 => 0x3F88FA72#32
  | 77 => 0x40375A7D#32
  | 78 => 0x3E230C1B#32
  | 79 => 0x403ADBDE#32
  | 80 => 0x3EE17B8D#32
  | 81 => 0xBE677F98#32
  | 82 => 0xBE4737AE#32
  | 83 => 0xBEFBEC22#32
  | 84 => 0x3DB7DD4C#32
  | 85 => 0x40280068#32
  | 86 => 0xBDD0EA20#32
  | 87 => 0x3F9F950C#32
  | 88 => 0xBF73F2F4#32
  | 89 => 0xBF73EF68#32
  | 90 => 0x3FFB8ED1#32
  | 91 => 0xBEE6263C#32
  | 92 => 0x3F218EE4#32
  | 93 => 0x3FD5F6B3#32
  | 94 => 0x3F4E2103#32
  | 95 => 0xBEBBDD70#32
  | 96 => 0x3F0301E4#32
  | 97 => 0x3EE9AB1B#32
  | 98 => 0xBEAF623A#32
  | 99 => 0x3FBC895B#32
  | 100 => 0xBEDCB479#32
  | 101 => 0xBE0E56E6#32
  | 102 => 0x3FA5610F#32
  | 103 => 0x3F47F635#32
  | 104 => 0x3FCF60DE#32
  | 105 => 0xBF8107C1#32
  | 106 => 0x40A891B9#32
  | 107 => 0xBE27872D#32
  | 108 => 0x3EE18EE8#32
  | 109 => 0x3FC83976#32
  | 110 => 0xBF2C934D#32
  | 111 => 0xBF848629#32
  | 112 => 0xBF9810C8#32
  | 113 => 0x3E28310E#32
  | 114 => 0x3F2859FC#32
  | 115 => 0xBE706BFB#32
  | 116 => 0x3F3C198A#32
  | 117 => 0xBE7F7D99#32
  | 118 => 0xBF9985F0#32
  | 119 => 0xBF0C83BD#32
  | 120 => 0x3F610761#32
  | 121 => 0x3DC4C461#32
  | 122 => 0x3F5D307A#32
  | 123 => 0xBE3E212B#32
  | 124 => 0xBEA90830#32
  | 125 => 0x3F99BED1#32
  | 126 => 0x3F2630B2#32
  | 127 => 0x3E1BB1D2#32
  | _ => 0#32

noncomputable abbrev lit0t0_496 (i : Nat) : BitVec 32 := match i % 128 with
  | 0 => 0xBF805582#32
  | 1 => 0x40723571#32
  | 2 => 0xBF63BFB6#32
  | 3 => 0xBF521791#32
  | 4 => 0x40176A5C#32
  | 5 => 0xBF93ACE2#32
  | 6 => 0xBF18A1A2#32
  | 7 => 0x3F2FB40D#32
  | 8 => 0x3F14AC59#32
  | 9 => 0x3E9AC973#32
  | 10 => 0x3F600C58#32
  | 11 => 0x3F7BA656#32
  | 12 => 0x3F8A5419#32
  | 13 => 0x3EDFE0B6#32
  | 14 => 0x40168BFC#32
  | 15 => 0xBF1AC675#32
  | 16 => 0xC000CE9A#32
  | 17 => 0xBF3CDB3D#32
  | 18 => 0x4012FBC5#32
  | 19 => 0xBD95B2D4#32
  | 20 => 0x405653E6#32
  | 21 => 0xBF7CEA00#32
  | 22 => 0xBF28F890#32
  | 23 => 0x3F58D65A#32
  | 24 => 0xBE574B23#32
  | 25 => 0xBF574FA4#32
  | 26 => 0x3F95E0B3#32
  | 27 => 0x403F3E26#32
  | 28 => 0xBF40118D#32
  | 29 => 0x406FA26E#32
  | 30 => 0x3E8B5BCD#32
  | 31 => 0x3FA76572#32
  | 32 => 0x3F9EE811#32
  | 33 => 0x3EDDF204#32
  | 34 => 0x3F3EB199#32
  | 35 => 0x3EB1E77C#32
  | 36 => 0xBD077DB0#32
  | 37 => 0x3FF4EFF8#32
  | 38 => 0xBE3C7843#32
  | 39 => 0xBFA68243#32
  | 40 => 0xBE4BC4C8#32
  | 41 => 0x3FA563D9#32
  | 42 => 0x408170CA#32
  | 43 => 0x3F4924E5#32
  | 44 => 0x3F04527B#32
  | 45 => 0x3F33F5B9#32
  | 46 => 0xBE0C4BF8#32
  | 47 => 0x3DA7258C#32
  | 48 => 0x4017E902#32
  | 49 => 0xBF8CB7BA#32
  | 50 => 0x3F416016#32
  | 51 => 0xBE6B506C#32
  | 52 => 0xBF306ADB#32
  | 53 => 0xBF7BA6A0#32
  | 54 => 0xBE0E8B98#32
  | 55 => 0xBF02E220#32
  | 56 => 0x3F75F475#32
  | 57 => 0x3FE61D31#32
  | 58 => 0x4034C5A3#32
  | 59 => 0x3FBBB0B3#32
  | 60 => 0x3E88B7B8#32
  | 61 => 0x3D213063#32
  | 62 => 0x3FC2590E#32
  | 63 => 0x3FB0D0A8#32
  | 64 => 0x3F9E83C6#32
  | 65 => 0x3F4D5692#32
  | 66 => 0xBF9499E5#32
  | 67 => 0x3DD9CEF8#32
  | 68 => 0x3F19F596#32
  | 69 => 0x3F0F561C#32
  | 70 => 0x3F88ED41#32
  | 71 => 0x3EBFAFB1#32
  | 72 => 0x3E8C0644#32
  | 73 => 0x3DC6130A#32
  | 74 => 0xBD007010#32
  | 75 => 0x3F0927FD#32
  | 76 => 0x3FDB95B0#32
  | 77 => 0xBE70747B#32
  | 78 => 0xBEC2A388#32
  | 79 => 0x3E32CDEC#32
  | 80 => 0xBF7D97CC#32
  | 81 => 0x404ECD62#32
  | 82 => 0x3F7F92D1#32
  | 83 => 0xBFB582B5#32
  | 84 => 0x3F4BD388#32
  | 85 => 0x40159A15#32
  | 86 => 0x3F95EC05#32
  | 87 => 0xBF212263#32
  | 88 => 0x40081742#32
  | 89 => 0x4043E58A#32
  | 90 => 0x40082946#32
  | 91 => 0x3FB7CA47#32
  | 92 => 0xBE606463#32
  | 93 => 0x3F5EBC93#32
  | 94 => 0x3F2483A2#32
  | 95 => 0x3F0771A1#32
  | 96 => 0x403390D1#32
  | 97 => 0xBF96F63B#32
  | 98 => 0x3FBBFC28#32
  | 99 => 0x3FABB3E3#32
  | 100 => 0x3F2AECB0#32
  | 101 => 0xBF42218A#32
  | 102 => 0xBD55C85B#32
  | 103 => 0xBF115A6E#32
  | 104 => 0xBE199A98#32
  | 105 => 0xBE653095#32
  | 106 => 0xBEF7C30B#32
  | 107 => 0x3E849EEF#32
  | 108 => 0x3EB8AE32#32
  | 109 => 0x405035F1#32
  | 110 => 0xBE81B571#32
  | 111 => 0xBEAEA48C#32
  | 112 => 0x3E68A1B1#32
  | 113 => 0x3DB7D022#32
  | 114 => 0x3FB2AE70#32
  | 115 => 0xBEBACF96#32
  | 116 => 0x3FAC8938#32
  | 117 => 0xBD620D79#32
  | 118 => 0x40160A9D#32
  | 119 => 0x4060E650#32
  | 120 => 0xBDA68349#32
  | 121 => 0x3F56978D#32
  | 122 => 0xBF530254#32
  | 123 => 0x40008074#32
  | 124 => 0xBE3AC716#32
  | 125 => 0xBE0864C2#32
  | 126 => 0xBFAC737C#32
  | 127 => 0x402FA01F#32
  | _ => 0#32

noncomputable abbrev lit0t0_497 (i : Nat) : BitVec 32 := match i % 128 with
  | 0 => 0xBF942059#32
  | 1 => 0x4071ADDC#32
  | 2 => 0x3EB7AB5C#32
  | 3 => 0xBF7C9BA6#32
  | 4 => 0x4070E509#32
  | 5 => 0xBF5FE90C#32
  | 6 => 0x3DD648E8#32
  | 7 => 0xBEEB26EC#32
  | 8 => 0x3E7EF3D6#32
  | 9 => 0x3EF5C747#32
  | 10 => 0x3EB86CBA#32
  | 11 => 0xBEBC5166#32
  | 12 => 0xBED1BE8B#32
  | 13 => 0x3E8AF809#32
  | 14 => 0x4016C035#32
  | 15 => 0x3D96FC38#32
  | 16 => 0x404AAAEB#32
  | 17 => 0x4000B899#32
  | 18 => 0xBF8D0D3A#32
  | 19 => 0xBEBEEB7A#32
  | 20 => 0x3E4C1313#32
  | 21 => 0x3FD822C7#32
  | 22 => 0xBF15B0CB#32
  | 23 => 0x401754C7#32
  | 24 => 0x40480846#32
  | 25 => 0x401588F0#32
  | 26 => 0x3FEFA2B9#32
  | 27 => 0x3FE48848#32
  | 28 => 0x3FF611D2#32
  | 29 => 0xBE412DBA#32
  | 30 => 0x3EAB7FD2#32
  | 31 => 0x3EF4C0D4#32
  | 32 => 0x3F82CAE0#32
  | 33 => 0x3F2741D5#32
  | 34 => 0x3EBA3E9B#32
  | 35 => 0x3F83859E#32
  | 36 => 0xBEA659C6#32
  | 37 => 0x40436270#32
  | 38 => 0x3FCC9751#32
  | 39 => 0x3E9E8A45#32
  | 40 => 0x3FBD1DB7#32
  | 41 => 0x3EAA2FD4#32
  | 42 => 0xBDC1AA6D#32
  | 43 => 0x3DE85075#32
  | 44 => 0xBE9BA8F5#32
  | 45 => 0x3F332A03#32
  | 46 => 0xBEDC5DB9#32
  | 47 => 0x3FB19948#32
  | 48 => 0x404E6908#32
  | 49 => 0xBF8DBA81#32
  | 50 => 0x3FD2FD1B#32
  | 51 => 0x3B5419C5#32
  | 52 => 0x3F3AEF04#32
  | 53 => 0x3E8562FD#32
  | 54 => 0x3E417583#32
  | 55 => 0x3F8938F2#32
  | 56 => 0x40514398#32
  | 57 => 0x4012AD7C#32
  | 58 => 0xBFC550B2#32
  | 59 => 0xBF9A279E#32
  | 60 => 0x3FEFB66E#32
  | 61 => 0x3E7995F3#32
  | 62 => 0x3FF77E1E#32
  | 63 => 0x3F2101C4#32
  | 64 => 0xBF7DA36B#32
  | 65 => 0x4083642C#32
  | 66 => 0x3F91A10F#32
  | 67 => 0x3F8A526B#32
  | 68 => 0xBF09709F#32
  | 69 => 0x3F044CA8#32
  | 70 => 0x40018D87#32
  | 71 => 0xBF0A4CDC#32
  | 72 => 0xBD18542D#32
  | 73 => 0x40083CE6#32
  | 74 => 0x40240E01#32
  | 75 => 0x3F0E991A#32
  | 76 => 0x3D95CAD1#32
  | 77 => 0x4051B8A8#32
  | 78 => 0xBF3A92B3#32
  | 79 => 0x3FB046DE#32
  | 80 => 0x3EB6F3B9#32
  | 81 => 0x3FC4036C#32
  | 82 => 0xBFE51336#32
  | 83 => 0x40229D0C#32
  | 84 => 0x3D145602#32
  | 85 => 0x402CCD15#32
  | 86 => 0x3FDF3F30#32
  | 87 => 0xBCA6A32B#32
  | 88 => 0xBFAA3BCF#32
  | 89 => 0xBE887F64#32
  | 90 => 0x3F2425F4#32
  | 91 => 0xBEEAD950#32
  | 92 => 0xBD34710C#32
  | 93 => 0x3E1D91FD#32
  | 94 => 0xBF04A7F0#32
  | 95 => 0x3FF8DE41#32
  | 96 => 0x4022EF38#32
  | 97 => 0xBF81186F#32
  | 98 => 0xBE0E8D63#32
  | 99 => 0x3FC5897A#32
  | 100 => 0xBE877EAD#32
  | 101 => 0x3FAF0414#32
  | 102 => 0x402446B7#32
  | 103 => 0xBF3DCE69#32
  | 104 => 0x409D5A40#32
  | 105 => 0xBF0D351A#32
  | 106 => 0x3F4BB43C#32
  | 107 => 0x3F940A07#32
  | 108 => 0x3F44825C#32
  | 109 => 0xBE525D0C#32
  | 110 => 0xBF1DAF43#32
  | 111 => 0xBF161015#32
  | 112 => 0xBED86692#32
  | 113 => 0xBBE732B6#32
  | 114 => 0x3F84587E#32
  | 115 => 0xBF14DCF3#32
  | 116 => 0x404005BB#32
  | 117 => 0x3CEB51A3#32
  | 118 => 0x3EC1F2CD#32
  | 119 => 0xBEF62E64#32
  | 120 => 0x3FE0885F#32
  | 121 => 0xBEF2C7C2#32
  | 122 => 0x3FCB4D66#32
  | 123 => 0xBE394571#32
  | 124 => 0xBF0880A4#32
  | 125 => 0x3EAED3CB#32
  | 126 => 0x3D2317AD#32
  | 127 => 0x3F1B78B7#32
  | _ => 0#32

noncomputable abbrev lit0t0_498 (i : Nat) : BitVec 32 := match i % 128 with
  | 0 => 0x3D94F430#32
  | 1 => 0x3E853CB2#32
  | 2 => 0x3FDC8DD6#32
  | 3 => 0xBE4B4FA9#32
  | 4 => 0xBE931085#32
  | 5 => 0xBF12F143#32
  | 6 => 0x3F32A947#32
  | 7 => 0x3F1A9617#32
  | 8 => 0x3FC85941#32
  | 9 => 0xBE3918D8#32
  | 10 => 0x3FCCF3FF#32
  | 11 => 0xBF19EA09#32
  | 12 => 0x3FC6DDBD#32
  | 13 => 0xBD4008DC#32
  | 14 => 0x3FD63C48#32
  | 15 => 0xBECFF2B3#32
  | 16 => 0x4017071A#32
  | 17 => 0xBCED765B#32
  | 18 => 0x40403933#32
  | 19 => 0x3F3FDF60#32
  | 20 => 0xBEA96272#32
  | 21 => 0x3F8F0D45#32
  | 22 => 0x3ED91EC0#32
  | 23 => 0x3F85A633#32
  | 24 => 0xBE25A275#32
  | 25 => 0xBF6755D8#32
  | 26 => 0xBE390430#32
  | 27 => 0x3F05B468#32
  | 28 => 0x3FB2AA27#32
  | 29 => 0x3F2AF241#32
  | 30 => 0x3F6152D1#32
  | 31 => 0xBF38830A#32
  | 32 => 0xBF65BB8B#32
  | 33 => 0xBF7B0C02#32
  | 34 => 0xBE8831A2#32
  | 35 => 0x3EA064CC#32
  | 36 => 0x40008A4E#32
  | 37 => 0x3F861A0F#32
  | 38 => 0x3D75FB1B#32
  | 39 => 0x3F2CE1AE#32
  | 40 => 0x3F516BE4#32
  | 41 => 0xBF8DED55#32
  | 42 => 0xBF3773D7#32
  | 43 => 0xBE4189C2#32
  | 44 => 0xBFB64F35#32
  | 45 => 0xBF8AFD28#32
  | 46 => 0x3E94BC71#32
  | 47 => 0xBE88A793#32
  | 48 => 0x3FB4CF5B#32
  | 49 => 0xBF8C7457#32
  | 50 => 0xBE906781#32
  | 51 => 0x3FBCD3C8#32
  | 52 => 0xBEDBC975#32
  | 53 => 0x3F1F5204#32
  | 54 => 0xBE0F7DD8#32
  | 55 => 0x3F22D837#32
  | 56 => 0x3F19EC12#32
  | 57 => 0xBF518EB6#32
  | 58 => 0x3FC571F7#32
  | 59 => 0x3F84877F#32
  | 60 => 0xBEDE139E#32
  | 61 => 0x3F1355F8#32
  | 62 => 0x3F76D867#32
  | 63 => 0xBFF3941A#32
  | 64 => 0x3FDF68E9#32
  | 65 => 0x40364D17#32
  | 66 => 0x3F6D1480#32
  | 67 => 0xBEF7F2C2#32
  | 68 => 0xBF002974#32
  | 69 => 0xBF711291#32
  | 70 => 0xBF2C5560#32
  | 71 => 0x40245A50#32
  | 72 => 0xBF3352A4#32
  | 73 => 0xBFDAE93D#32
  | 74 => 0xBC936386#32
  | 75 => 0x40056CF7#32
  | 76 => 0x3F907708#32
  | 77 => 0x3FE8AD88#32
  | 78 => 0x3FB28D6D#32
  | 79 => 0x3F9201AC#32
  | 80 => 0xBF14FF3B#32
  | 81 => 0xBF58D348#32
  | 82 => 0x3FF41889#32
  | 83 => 0x3FB93297#32
  | 84 => 0x3FF0A803#32
  | 85 => 0x3D9F7796#32
  | 86 => 0xBF88F718#32
  | 87 => 0x3F27E225#32
  | 88 => 0xBF93986B#32
  | 89 => 0x3E2DA9CE#32
  | 90 => 0x3F69679A#32
  | 91 => 0x40452788#32
  | 92 => 0x3FE57F42#32
  | 93 => 0xBF3F647A#32
  | 94 => 0x3DFCD7C6#32
  | 95 => 0x3F845B75#32
  | 96 => 0x3E812840#32
  | 97 => 0xBE90D1D8#32
  | 98 => 0x4002F26A#32
  | 99 => 0xBEB92E88#32
  | 100 => 0x403F23BF#32
  | 101 => 0xBE67FCE5#32
  | 102 => 0x402A111C#32
  | 103 => 0x3ED8868A#32
  | 104 => 0x3F9645FC#32
  | 105 => 0x3F00F375#32
  | 106 => 0xBF11C029#32
  | 107 => 0x3F21C033#32
  | 108 => 0x40290E0C#32
  | 109 => 0xBE9ADD48#32
  | 110 => 0xBE0A1D12#32
  | 111 => 0xBCC3D865#32
  | 112 => 0x400F3E82#32
  | 113 => 0x3FC4C565#32
  | 114 => 0x3F0EC0E2#32
  | 115 => 0x3E884891#32
  | 116 => 0xBF85716C#32
  | 117 => 0xBF991A16#32
  | 118 => 0x3FEF509C#32
  | 119 => 0xBD0D4B63#32
  | 120 => 0xBF36CF49#32
  | 121 => 0x3F2722CE#32
  | 122 => 0xBECB3577#32
  | 123 => 0x3F6194AA#32
  | 124 => 0x3FF7CD21#32
  | 125 => 0x3F21B42C#32
  | 126 => 0xBD71CF60#32
  | 127 => 0x3FA5C73F#32
  | _ => 0#32

noncomputable abbrev lit0t0_499 (i : Nat) : BitVec 32 := match i % 128 with
  | 0 => 0x3F91DE40#32
  | 1 => 0xBF1ECC5F#32
  | 2 => 0xBEFBCBBA#32
  | 3 => 0x3F28FA96#32
  | 4 => 0xBF74ABBB#32
  | 5 => 0x3F092E96#32
  | 6 => 0x401E9238#32
  | 7 => 0x3F46743C#32
  | 8 => 0x3F5F96D1#32
  | 9 => 0xBF285E42#32
  | 10 => 0x3FAFB714#32
  | 11 => 0xBE880591#32
  | 12 => 0xBF906FD5#32
  | 13 => 0xBF141BB5#32
  | 14 => 0x3F3A0F6B#32
  | 15 => 0x3F331C92#32
  | 16 => 0x3F74ADF7#32
  | 17 => 0x3FE365E2#32
  | 18 => 0xBFBC0654#32
  | 19 => 0x3F4B9F02#32
  | 20 => 0x40171C29#32
  | 21 => 0x3E89027E#32
  | 22 => 0x3F3AFEB1#32
  | 23 => 0xBF8C39A7#32
  | 24 => 0x401225BB#32
  | 25 => 0x3F96146E#32
  | 26 => 0xBEBABAC1#32
  | 27 => 0xBE22FB21#32
  | 28 => 0xBFA07307#32
  | 29 => 0xBFB790E6#32
  | 30 => 0x3FC3481F#32
  | 31 => 0x3F19AF2C#32
  | 32 => 0xBE12A62B#32
  | 33 => 0x3D8F78F8#32
  | 34 => 0xBF565DB8#32
  | 35 => 0x3FE7AA34#32
  | 36 => 0x3E51E725#32
  | 37 => 0x3F412D81#32
  | 38 => 0xBF9D955E#32
  | 39 => 0xBC8CFF93#32
  | 40 => 0x3FDA646A#32
  | 41 => 0xBF4FCAEB#32
  | 42 => 0xBDB69AED#32
  | 43 => 0x3F46FC74#32
  | 44 => 0x3F9C4409#32
  | 45 => 0xBF225C22#32
  | 46 => 0x3F7C34FA#32
  | 47 => 0x3F41E0E1#32
  | 48 => 0xBE7E9F8D#32
  | 49 => 0xBF145CCC#32
  | 50 => 0x3FC7E2A7#32
  | 51 => 0xBEC54FE6#32
  | 52 => 0x3F4634DC#32
  | 53 => 0xBF2A7C76#32
  | 54 => 0x3E7CDF36#32
  | 55 => 0xBF2971CA#32
  | 56 => 0x3F45D72B#32
  | 57 => 0x403E962D#32
  | 58 => 0x40AC3C6C#32
  | 59 => 0x3FF75361#32
  | 60 => 0xBEBEE2C8#32
  | 61 => 0xBFBEB727#32
  | 62 => 0x3EC961F4#32
  | 63 => 0x3F300B99#32
  | 64 => 0xBD218A52#32
  | 65 => 0xBDFE13C4#32
  | 66 => 0x3F7C3F00#32
  | 67 => 0xBE1EA9A1#32
  | 68 => 0xBEE17242#32
  | 69 => 0x3F9F3D13#32
  | 70 => 0x3F3BF06B#32
  | 71 => 0x4036EBF7#32
  | 72 => 0xBFA9344F#32
  | 73 => 0xBE8AC5B7#32
  | 74 => 0x4052D591#32
  | 75 => 0x3FAE2E9E#32
  | 76 => 0x40159406#32
  | 77 => 0x3FC4C456#32
  | 78 => 0x3FFAB1F7#32
  | 79 => 0x3F57BBAD#32
  | 80 => 0x4001C66D#32
  | 81 => 0x3FE5AB2F#32
  | 82 => 0x3F010A56#32
  | 83 => 0xBF9FB7BF#32
  | 84 => 0x3F2C4679#32
  | 85 => 0x401729C0#32
  | 86 => 0x3F5A6E64#32
  | 87 => 0x3E0B7FA4#32
  | 88 => 0x40402DC9#32
  | 89 => 0xBDBFCE4A#32
  | 90 => 0xBF585282#32
  | 91 => 0x3F09228D#32
  | 92 => 0x3F1C0C5C#32
  | 93 => 0xBF531F84#32
  | 94 => 0xBE7023B1#32
  | 95 => 0x3FA4BFDB#32
  | 96 => 0x404AE8C3#32
  | 97 => 0x4067E0C0#32
  | 98 => 0xBF86FFC0#32
  | 99 => 0x3E6FD4C5#32
  | 100 => 0xBF741986#32
  | 101 => 0xBF35D89B#32
  | 102 => 0x3F38A832#32
  | 103 => 0xBE91BD33#32
  | 104 => 0xBF8597E3#32
  | 105 => 0x4020632A#32
  | 106 => 0xBF006D89#32
  | 107 => 0x405A12D4#32
  | 108 => 0x402D7969#32
  | 109 => 0x3F9AC1F7#32
  | 110 => 0x3F44292E#32
  | 111 => 0xBF69285F#32
  | 112 => 0xBFFBDB03#32
  | 113 => 0xBF8A1D16#32
  | 114 => 0x3F77B942#32
  | 115 => 0x3FD6A1BD#32
  | 116 => 0x3FBA5AA4#32
  | 117 => 0x3FCFA002#32
  | 118 => 0xBFB13C6A#32
  | 119 => 0x3FF876CB#32
  | 120 => 0x3F0A8B2A#32
  | 121 => 0xBFB3DFAD#32
  | 122 => 0xBEF0754A#32
  | 123 => 0xBE8DADC9#32
  | 124 => 0xBC05271C#32
  | 125 => 0x3F680352#32
  | 126 => 0x3FD3DFA4#32
  | 127 => 0xBF1845D2#32
  | _ => 0#32

noncomputable abbrev lit0t0_500 (i : Nat) : BitVec 32 := match i % 128 with
  | 0 => 0x3E870086#32
  | 1 => 0x3E841BC3#32
  | 2 => 0xBE82F5B0#32
  | 3 => 0xBEA87574#32
  | 4 => 0x3F9A9325#32
  | 5 => 0xBEAC6E3F#32
  | 6 => 0x3D94D738#32
  | 7 => 0x3F9F74FE#32
  | 8 => 0xBF34C6AE#32
  | 9 => 0x3EA0C7B7#32
  | 10 => 0x400FA55C#32
  | 11 => 0x3F86E5B0#32
  | 12 => 0xBFACED32#32
  | 13 => 0xBF36EF44#32
  | 14 => 0x3F5D84AD#32
  | 15 => 0x4000AAD2#32
  | 16 => 0xBEB3D9F0#32
  | 17 => 0x3E05D0E5#32
  | 18 => 0x3C07C257#32
  | 19 => 0x3FA6DFDD#32
  | 20 => 0xBE3A1875#32
  | 21 => 0xBFB10AF8#32
  | 22 => 0xBEC748BD#32
  | 23 => 0x40124156#32
  | 24 => 0xBE9CD6DD#32
  | 25 => 0xBC7370B4#32
  | 26 => 0xBE7EF067#32
  | 27 => 0xBE286F4B#32
  | 28 => 0x3F423A75#32
  | 29 => 0x4024F66B#32
  | 30 => 0x3E803C22#32
  | 31 => 0xBC58609C#32
  | 32 => 0xBEBD7C7A#32
  | 33 => 0xBF347D32#32
  | 34 => 0xBE3D247B#32
  | 35 => 0x3ED39BDD#32
  | 36 => 0xBF02DF9D#32
  | 37 => 0x3E5013D8#32
  | 38 => 0xBF793262#32
  | 39 => 0xBFB03F17#32
  | 40 => 0x3FD71B9A#32
  | 41 => 0xBEA530AC#32
  | 42 => 0x3F2F78EA#32
  | 43 => 0xBFA80406#32
  | 44 => 0x3E4FBA21#32
  | 45 => 0x40351FD0#32
  | 46 => 0x3ED16928#32
  | 47 => 0x3EA7A948#32
  | 48 => 0xBEF42999#32
  | 49 => 0x3E240653#32
  | 50 => 0x403B2EB6#32
  | 51 => 0x3FF6C8E7#32
  | 52 => 0x3F001978#32
  | 53 => 0x3FCDBF50#32
  | 54 => 0xBF1DB5EC#32
  | 55 => 0x3EDAD5BC#32
  | 56 => 0x3FFDD333#32
  | 57 => 0x3EAAF68A#32
  | 58 => 0xBDBFB16F#32
  | 59 => 0x3BFFAFB6#32
  | 60 => 0x3E8E8449#32
  | 61 => 0xBF4B0F68#32
  | 62 => 0x40198294#32
  | 63 => 0x3FB94917#32
  | 64 => 0x3D7F2F1B#32
  | 65 => 0x3EFC7D6E#32
  | 66 => 0x4002751F#32
  | 67 => 0xBE4A1643#32
  | 68 => 0xBF7A508C#32
  | 69 => 0x3F579647#32
  | 70 => 0x3F94ABF3#32
  | 71 => 0x3FE95B18#32
  | 72 => 0xBFA4C141#32
  | 73 => 0xBEE4DEBD#32
  | 74 => 0xBECD792F#32
  | 75 => 0x3DFCF098#32
  | 76 => 0xBE285505#32
  | 77 => 0xBF0C7CDC#32
  | 78 => 0x3EE45F80#32
  | 79 => 0xBF199072#32
  | 80 => 0x3FAE631B#32
  | 81 => 0x3E8AC432#32
  | 82 => 0x3FA7833C#32
  | 83 => 0x3F7533A1#32
  | 84 => 0x3E960C1D#32
  | 85 => 0x3EDD827D#32
  | 86 => 0xBE60D591#32
  | 87 => 0x3F3E2700#32
  | 88 => 0xBF5BB541#32
  | 89 => 0x3EED2660#32
  | 90 => 0x3F1B9367#32
  | 91 => 0xBF2F60F4#32
  | 92 => 0xBF468751#32
  | 93 => 0xBE843CB7#32
  | 94 => 0x3F859A5A#32
  | 95 => 0xBF256286#32
  | 96 => 0x4050354F#32
  | 97 => 0x3E7EF599#32
  | 98 => 0xBE18F5D4#32
  | 99 => 0x4026E014#32
  | 100 => 0xBC8BE33F#32
  | 101 => 0x3F8128EA#32
  | 102 => 0x406E16C6#32
  | 103 => 0xBDCA11C4#32
  | 104 => 0x3F0BF31E#32
  | 105 => 0xBEF80014#32
  | 106 => 0x4008A1F8#32
  | 107 => 0xBE0485E4#32
  | 108 => 0x3FE7B7DE#32
  | 109 => 0x3E735941#32
  | 110 => 0x3E5DBF13#32
  | 111 => 0xBE9F5A8B#32
  | 112 => 0x403F8BFE#32
  | 113 => 0x4009F7A8#32
  | 114 => 0xBF26C396#32
  | 115 => 0x3F44AC1C#32
  | 116 => 0xBF583C10#32
  | 117 => 0x3F94B376#32
  | 118 => 0x4053B2FE#32
  | 119 => 0xBEA8594C#32
  | 120 => 0x3EE2C875#32
  | 121 => 0x3F8AC5DC#32
  | 122 => 0x3EA22F3E#32
  | 123 => 0x3DE90BA8#32
  | 124 => 0x401B98E6#32
  | 125 => 0x3F2B1AEB#32
  | 126 => 0x3FC6480E#32
  | 127 => 0x3F0EE746#32
  | _ => 0#32

noncomputable abbrev lit0t0_501 (i : Nat) : BitVec 32 := match i % 128 with
  | 0 => 0x3F34C490#32
  | 1 => 0xBE25262E#32
  | 2 => 0xBF403191#32
  | 3 => 0xBF44415D#32
  | 4 => 0x3F27EFF5#32
  | 5 => 0x3E8D6D29#32
  | 6 => 0x40596625#32
  | 7 => 0xBB16FF70#32
  | 8 => 0x3FD301EE#32
  | 9 => 0x3FC019A1#32
  | 10 => 0x3E6AFC70#32
  | 11 => 0xBECFB18F#32
  | 12 => 0xBF5EA6D4#32
  | 13 => 0xBEEDF152#32
  | 14 => 0xBEEF7666#32
  | 15 => 0xBF9CAE04#32
  | 16 => 0x3F6D58E6#32
  | 17 => 0xBEBE82E0#32
  | 18 => 0x3E55765E#32
  | 19 => 0x3FC8D9DA#32
  | 20 => 0x4037F72C#32
  | 21 => 0xBF3EC11C#32
  | 22 => 0x3F86AD86#32
  | 23 => 0x3CC3B100#32
  | 24 => 0x3F2BA66C#32
  | 25 => 0x3FB9FEDC#32
  | 26 => 0x3F8D6150#32
  | 27 => 0x3D178DE0#32
  | 28 => 0xBED8E9C4#32
  | 29 => 0x3EE5B046#32
  | 30 => 0x3DAECF4C#32
  | 31 => 0x3FAC2B17#32
  | 32 => 0x3F7634A2#32
  | 33 => 0xBE8FA64C#32
  | 34 => 0xBE276EB5#32
  | 35 => 0x3F7A7CCE#32
  | 36 => 0x403A790A#32
  | 37 => 0xBFADAC2A#32
  | 38 => 0x3F3A5B54#32
  | 39 => 0x3EA60C6B#32
  | 40 => 0x4049A8DB#32
  | 41 => 0xBE6B1891#32
  | 42 => 0x3E2A322C#32
  | 43 => 0xBF71B1A0#32
  | 44 => 0xBDE01921#32
  | 45 => 0xBD0E365C#32
  | 46 => 0xBD61B354#32
  | 47 => 0x3FFB4687#32
  | 48 => 0x3FB95333#32
  | 49 => 0x3FB7EDCF#32
  | 50 => 0x3F74FBCB#32
  | 51 => 0x402802F5#32
  | 52 => 0xBE31A3A4#32
  | 53 => 0x3EC68589#32
  | 54 => 0x3F8AA794#32
  | 55 => 0xBF3606A7#32
  | 56 => 0x4087F133#32
  | 57 => 0xBF86E5E1#32
  | 58 => 0x3E06FA73#32
  | 59 => 0xBF405E79#32
  | 60 => 0x3FE9213C#32
  | 61 => 0xBF1D7DE8#32
  | 62 => 0x3F0780B0#32
  | 63 => 0x4034CE9D#32
  | 64 => 0x3EF6A59F#32
  | 65 => 0xBFAFE105#32
  | 66 => 0x3FA3D492#32
  | 67 => 0xBDC4FAC9#32
  | 68 => 0x3DB21ACE#32
  | 69 => 0xBFA22D70#32
  | 70 => 0x3E921009#32
  | 71 => 0xBE910305#32
  | 72 => 0x3EDD3CB1#32
  | 73 => 0xBF4FA2FF#32
  | 74 => 0x4074C391#32
  | 75 => 0xBFCDAD82#32
  | 76 => 0x3F853704#32
  | 77 => 0x401FC661#32
  | 78 => 0x4018FAAE#32
  | 79 => 0xBF1B597B#32
  | 80 => 0xBF02E97E#32
  | 81 => 0x3F374060#32
  | 82 => 0x3F8915B8#32
  | 83 => 0x3F98AFA8#32
  | 84 => 0x40312323#32
  | 85 => 0x400C3DB2#32
  | 86 => 0x3FE6247C#32
  | 87 => 0x3F97EE7A#32
  | 88 => 0xBF36A37D#32
  | 89 => 0x3FB0D033#32
  | 90 => 0x40029E56#32
  | 91 => 0xBE65AFAB#32
  | 92 => 0xBF3EFDB1#32
  | 93 => 0x3FE35486#32
  | 94 => 0x3FC1B0D8#32
  | 95 => 0x4026B3A5#32
  | 96 => 0xBFBB585E#32
  | 97 => 0x4045D426#32
  | 98 => 0x3F9DC104#32
  | 99 => 0xBF0DE9BA#32
  | 100 => 0x3F9F2ECA#32
  | 101 => 0xBF0C2D4E#32
  | 102 => 0x3F1A1E2E#32
  | 103 => 0xBF0A1328#32
  | 104 => 0x3F550C77#32
  | 105 => 0x3F3B7245#32
  | 106 => 0x3FCB8766#32
  | 107 => 0x3F0BF11E#32
  | 108 => 0xBF2E221C#32
  | 109 => 0x3F04F332#32
  | 110 => 0xC0000E26#32
  | 111 => 0x40071272#32
  | 112 => 0xBF8B2AFE#32
  | 113 => 0xBF25F7B9#32
  | 114 => 0x3EF1A196#32
  | 115 => 0xBF9D04A8#32
  | 116 => 0xBE45656F#32
  | 117 => 0x3C10BFB5#32
  | 118 => 0x3F35B0D8#32
  | 119 => 0x3E49EEF1#32
  | 120 => 0xBEB5EFE2#32
  | 121 => 0x3F2FB6EC#32
  | 122 => 0x3F04EA81#32
  | 123 => 0x4001F55E#32
  | 124 => 0x3EAA6DE1#32
  | 125 => 0xBF74C738#32
  | 126 => 0x3DEEDC6A#32
  | 127 => 0xBC61EC66#32
  | _ => 0#32

noncomputable abbrev lit0t0_502 (i : Nat) : BitVec 32 := match i % 128 with
  | 0 => 0x3E9392C0#32
  | 1 => 0x3F28996B#32
  | 2 => 0xBFA37582#32
  | 3 => 0x3C4994A9#32
  | 4 => 0x3F97A707#32
  | 5 => 0xBF002EC8#32
  | 6 => 0x3CA4A2B1#32
  | 7 => 0x3E63DE70#32
  | 8 => 0xBE2BBCF5#32
  | 9 => 0x3F2BFAB8#32
  | 10 => 0x3FBB82BC#32
  | 11 => 0xBD9B3E88#32
  | 12 => 0x4000B106#32
  | 13 => 0x3D5C70D0#32
  | 14 => 0x3E8703E3#32
  | 15 => 0x3E9376F6#32
  | 16 => 0x3F66EF12#32
  | 17 => 0xBD39FF1D#32
  | 18 => 0xBDC54870#32
  | 19 => 0xBF1B1D19#32
  | 20 => 0x3E542B13#32
  | 21 => 0x4019916B#32
  | 22 => 0xBF0E3589#32
  | 23 => 0xBF11DF5A#32
  | 24 => 0x407AFC80#32
  | 25 => 0xBEDF0E9B#32
  | 26 => 0xBFECF7C7#32
  | 27 => 0x3FDFDE82#32
  | 28 => 0xBF7518AA#32
  | 29 => 0xBEE99E7D#32
  | 30 => 0x400F4755#32
  | 31 => 0x3E8DBAED#32
  | 32 => 0x3E98CA89#32
  | 33 => 0xBF81484C#32
  | 34 => 0x3F798A5D#32
  | 35 => 0xBEC19FA4#32
  | 36 => 0x3CFE8696#32
  | 37 => 0xBF7E6616#32
  | 38 => 0xBA69CD4D#32
  | 39 => 0xBF026CF8#32
  | 40 => 0x3EE0E040#32
  | 41 => 0xBF9FC38B#32
  | 42 => 0xBD47C556#32
  | 43 => 0xBF2F135F#32
  | 44 => 0xBF777B31#32
  | 45 => 0xBDC7E5AC#32
  | 46 => 0xBF96B9C7#32
  | 47 => 0xBF02004D#32
  | 48 => 0xBF9DC300#32
  | 49 => 0xBF8C5048#32
  | 50 => 0xBE2752DE#32
  | 51 => 0x3C1D6D40#32
  | 52 => 0x3F56439F#32
  | 53 => 0x3FF236D4#32
  | 54 => 0xBF3BA1D4#32
  | 55 => 0xBEAC6555#32
  | 56 => 0x3E45B1A8#32
  | 57 => 0xBF987D39#32
  | 58 => 0x3EE80A74#32
  | 59 => 0x40224198#32
  | 60 => 0xBEDE9064#32
  | 61 => 0xBEC7B31B#32
  | 62 => 0x3FD42795#32
  | 63 => 0x3F43F056#32
  | 64 => 0x3E22281E#32
  | 65 => 0xBF166DDC#32
  | 66 => 0x40726C24#32
  | 67 => 0xBE25C871#32
  | 68 => 0xBDDF04EC#32
  | 69 => 0xBFBA21D6#32
  | 70 => 0x3C0E9E73#32
  | 71 => 0xBED0264F#32
  | 72 => 0x3D44F26F#32
  | 73 => 0x3FA1D309#32
  | 74 => 0x3FAB4BE8#32
  | 75 => 0xBEA0230C#32
  | 76 => 0xBD808782#32
  | 77 => 0x3F48158C#32
  | 78 => 0x4014F04F#32
  | 79 => 0x3F757C16#32
  | 80 => 0xBE4E91C8#32
  | 81 => 0x401CFA69#32
  | 82 => 0x3EFBC35A#32
  | 83 => 0xBFDB8130#32
  | 84 => 0xBF387578#32
  | 85 => 0x3ECBB332#32
  | 86 => 0xBF11F1BC#32
  | 87 => 0x3E9051F2#32
  | 88 => 0x404B8B86#32
  | 89 => 0xBD79C71B#32
  | 90 => 0x3F2FF0EA#32
  | 91 => 0x402334C9#32
  | 92 => 0x3E62BF19#32
  | 93 => 0xBE9662B6#32
  | 94 => 0xBF205A74#32
  | 95 => 0x3F87B383#32
  | 96 => 0x3F18678E#32
  | 97 => 0xBDB815D2#32
  | 98 => 0x3F96E340#32
  | 99 => 0xBF083C1E#32
  | 100 => 0x3C99C2BD#32
  | 101 => 0x3E8C3670#32
  | 102 => 0x3F934C49#32
  | 103 => 0xBE746864#32
  | 104 => 0x3E4C3148#32
  | 105 => 0x4083355C#32
  | 106 => 0xBE8E6240#32
  | 107 => 0x402E8D0F#32
  | 108 => 0x3FBCD3AD#32
  | 109 => 0xBF8CDDBF#32
  | 110 => 0x3FCA78FB#32
  | 111 => 0x3FFEC2F4#32
  | 112 => 0x4001FF20#32
  | 113 => 0xBE4D08FF#32
  | 114 => 0x3F0B09E8#32
  | 115 => 0x3FA5DE70#32
  | 116 => 0xBEA006BF#32
  | 117 => 0xBF513C8E#32
  | 118 => 0xBF9F51AD#32
  | 119 => 0x3F919A4B#32
  | 120 => 0x3F2D4496#32
  | 121 => 0xBEB0A1D7#32
  | 122 => 0x3FD19303#32
  | 123 => 0x3F0EF322#32
  | 124 => 0x3F99E5CA#32
  | 125 => 0xBE546150#32
  | 126 => 0x3E19C2D7#32
  | 127 => 0xBF130290#32
  | _ => 0#32

noncomputable abbrev lit0t0_503 (i : Nat) : BitVec 32 := match i % 128 with
  | 0 => 0x3E9EFA1A#32
  | 1 => 0x40395617#32
  | 2 => 0x3D172409#32
  | 3 => 0x3CEEA025#32
  | 4 => 0x3F2E46FA#32
  | 5 => 0x4011B5F9#32
  | 6 => 0x3DA05ED5#32
  | 7 => 0xBF01DA76#32
  | 8 => 0xBDC38960#32
  | 9 => 0x3F888E8D#32
  | 10 => 0xBE89AF7B#32
  | 11 => 0x3E9D29BB#32
  | 12 => 0x3F07DEBA#32
  | 13 => 0x3F624E6C#32
  | 14 => 0x3FA22CBC#32
  | 15 => 0x3FD8CC87#32
  | 16 => 0x3F9CD11C#32
  | 17 => 0x3BC5D899#32
  | 18 => 0x3FD062CC#32
  | 19 => 0x3CC92756#32
  | 20 => 0xBE0AD88C#32
  | 21 => 0x3D39236D#32
  | 22 => 0xBF7B7BBE#32
  | 23 => 0xBF4D5FF0#32
  | 24 => 0x3E889D14#32
  | 25 => 0xBE711D7E#32
  | 26 => 0x3EDEC3D3#32
  | 27 => 0xBBB4DAFF#32
  | 28 => 0x3F7D7129#32
  | 29 => 0x3FB68B73#32
  | 30 => 0x4008C954#32
  | 31 => 0x3F83BCDA#32
  | 32 => 0xBDD2E423#32
  | 33 => 0x3FB09BFE#32
  | 34 => 0x404DECC8#32
  | 35 => 0x3F2F597A#32
  | 36 => 0x3FD49EF3#32
  | 37 => 0x3FE57EAD#32
  | 38 => 0x3F6AAA02#32
  | 39 => 0xBDC68DB0#32
  | 40 => 0x3FC26722#32
  | 41 => 0xBFE4AD17#32
  | 42 => 0x3F976184#32
  | 43 => 0x4009EE4E#32
  | 44 => 0x3FA6637B#32
  | 45 => 0x3DFC7B8A#32
  | 46 => 0xBF40D6D4#32
  | 47 => 0x3F961F02#32
  | 48 => 0x3F26BF41#32
  | 49 => 0x3FD8B191#32
  | 50 => 0x3F169436#32
  | 51 => 0xBF05FF17#32
  | 52 => 0xBE851A8D#32
  | 53 => 0x3FA71D83#32
  | 54 => 0x3E251335#32
  | 55 => 0x40BBC9B9#32
  | 56 => 0xBF441C55#32
  | 57 => 0x3FDC8655#32
  | 58 => 0x3FC07F54#32
  | 59 => 0x3FC7E3B6#32
  | 60 => 0x3DC623F1#32
  | 61 => 0x3DEE0934#32
  | 62 => 0xBEA9E339#32
  | 63 => 0x3EC3B840#32
  | 64 => 0x3FE94AAB#32
  | 65 => 0x3FFE9404#32
  | 66 => 0x3F4E9871#32
  | 67 => 0xBEDB6389#32
  | 68 => 0x3F5C5722#32
  | 69 => 0xBE530C10#32
  | 70 => 0x3FBC6A35#32
  | 71 => 0xBF05A8F2#32
  | 72 => 0x3F9F2577#32
  | 73 => 0xBEAE23E3#32
  | 74 => 0x3F19AB47#32
  | 75 => 0xBEB14D32#32
  | 76 => 0x3E34AF8D#32
  | 77 => 0xBECDF546#32
  | 78 => 0x3E4EFEFF#32
  | 79 => 0xBF0298C4#32
  | 80 => 0x3FA8FF1D#32
  | 81 => 0xBE81742E#32
  | 82 => 0x3FBA0965#32
  | 83 => 0x3F339261#32
  | 84 => 0x3E952DE1#32
  | 85 => 0x3E14C7F6#32
  | 86 => 0xBF6A6A1B#32
  | 87 => 0xBF6A4AA1#32
  | 88 => 0xBFC2F717#32
  | 89 => 0xBF204AB4#32
  | 90 => 0xBEB2E8BE#32
  | 91 => 0x3F0CBB66#32
  | 92 => 0xBFB01A63#32
  | 93 => 0x3F2E6318#32
  | 94 => 0x3F443F0A#32
  | 95 => 0xBD450210#32
  | 96 => 0xBE780508#32
  | 97 => 0xBF86564F#32
  | 98 => 0x40179C7B#32
  | 99 => 0x3F2ADE3C#32
  | 100 => 0x3EB3ABED#32
  | 101 => 0xBFA6EE0B#32
  | 102 => 0x3EE682AC#32
  | 103 => 0xBE8D0B77#32
  | 104 => 0xBF25E351#32
  | 105 => 0xBEC18180#32
  | 106 => 0xBF0F1FA0#32
  | 107 => 0xBFA14B47#32
  | 108 => 0xBF0EF43C#32
  | 109 => 0x3F0562D6#32
  | 110 => 0x3EA5967A#32
  | 111 => 0x3F9E8EF2#32
  | 112 => 0xBEA59438#32
  | 113 => 0x3F0CE38B#32
  | 114 => 0xBF8AF6E9#32
  | 115 => 0xBED3A5D3#32
  | 116 => 0x3ECC686C#32
  | 117 => 0xBF37E13C#32
  | 118 => 0xBE7B6986#32
  | 119 => 0xBE823CA4#32
  | 120 => 0x3FA029CC#32
  | 121 => 0x3F37C409#32
  | 122 => 0x3F0CDCD2#32
  | 123 => 0xBED2703C#32
  | 124 => 0xBF41A48C#32
  | 125 => 0xBED35304#32
  | 126 => 0x3EC89CAC#32
  | 127 => 0x3F58E946#32
  | _ => 0#32

noncomputable abbrev lit0t0_504 (i : Nat) : BitVec 32 := match i % 128 with
  | 0 => 0x3FAE57D0#32
  | 1 => 0x3EFF4678#32
  | 2 => 0x3F50BC1D#32
  | 3 => 0x3EE51616#32
  | 4 => 0x3F589C6D#32
  | 5 => 0xBF9A82F4#32
  | 6 => 0xBF31EDE8#32
  | 7 => 0x3F8D6F20#32
  | 8 => 0x3F497AB0#32
  | 9 => 0x3F94E8E2#32
  | 10 => 0x3FB29B6C#32
  | 11 => 0x4030B29C#32
  | 12 => 0x3E2E9C52#32
  | 13 => 0x3ECB46CA#32
  | 14 => 0x3FA6BD82#32
  | 15 => 0xBEA0DCC7#32
  | 16 => 0xBE3FD49C#32
  | 17 => 0x3E4AA69E#32
  | 18 => 0x3DF6B6DA#32
  | 19 => 0xBF1EFA97#32
  | 20 => 0xBEB14FED#32
  | 21 => 0x3F82359F#32
  | 22 => 0x403CCBD2#32
  | 23 => 0xBE9CFBD3#32
  | 24 => 0x3F693E60#32
  | 25 => 0xBF0C0A73#32
  | 26 => 0xBEA19CB4#32
  | 27 => 0xBFC3EA85#32
  | 28 => 0xBDB43E40#32
  | 29 => 0xBFBB3A65#32
  | 30 => 0xBE4473C5#32
  | 31 => 0x3F6D2B99#32
  | 32 => 0x40974C8C#32
  | 33 => 0xBF9FB03B#32
  | 34 => 0xBDEB2434#32
  | 35 => 0x3F910141#32
  | 36 => 0x3DE07F68#32
  | 37 => 0x3E9FAE65#32
  | 38 => 0x3E89406E#32
  | 39 => 0xBF587A0A#32
  | 40 => 0x3F2CD1C0#32
  | 41 => 0x3F6E5D6A#32
  | 42 => 0x3F31CE04#32
  | 43 => 0xBF64EA4B#32
  | 44 => 0xBF834286#32
  | 45 => 0x401BD1D7#32
  | 46 => 0x3FB68E72#32
  | 47 => 0xBE775C98#32
  | 48 => 0x3F59E6BF#32
  | 49 => 0x3FE9F746#32
  | 50 => 0x409738BE#32
  | 51 => 0x3E46F878#32
  | 52 => 0xBF1AFC10#32
  | 53 => 0xBE7BC02C#32
  | 54 => 0x3F5F53C3#32
  | 55 => 0x3FF5B969#32
  | 56 => 0x3FB4903B#32
  | 57 => 0xBF8A66E6#32
  | 58 => 0xBE136434#32
  | 59 => 0xBF8BE3D8#32
  | 60 => 0x3F6ED50A#32
  | 61 => 0xBE489F5B#32
  | 62 => 0x3FF1B108#32
  | 63 => 0xBF20877C#32
  | 64 => 0x3F864364#32
  | 65 => 0xBEFA50B8#32
  | 66 => 0x3FA1DCDF#32
  | 67 => 0x3FAFCAF6#32
  | 68 => 0x3E13A588#32
  | 69 => 0xBE5E924F#32
  | 70 => 0x3EB3C35A#32
  | 71 => 0x3F51791A#32
  | 72 => 0x401FDA72#32
  | 73 => 0x406B02CC#32
  | 74 => 0x3ED962F0#32
  | 75 => 0xBE882DD6#32
  | 76 => 0x3F038A78#32
  | 77 => 0xBE8F1815#32
  | 78 => 0x3E47DEA2#32
  | 79 => 0xBF572B62#32
  | 80 => 0x408D283A#32
  | 81 => 0xBF6D266F#32
  | 82 => 0xBE2FD283#32
  | 83 => 0x3ED20A11#32
  | 84 => 0xBEB29CB9#32
  | 85 => 0x3F5F4F40#32
  | 86 => 0x4015DB0B#32
  | 87 => 0x3F1D3184#32
  | 88 => 0xBEC59430#32
  | 89 => 0xBF86BFF2#32
  | 90 => 0xBE4033BD#32
  | 91 => 0xBF9422A0#32
  | 92 => 0xBF615CB2#32
  | 93 => 0xBF4491DB#32
  | 94 => 0xBFCA9D2A#32
  | 95 => 0x3EF295CC#32
  | 96 => 0xBE4EC3B0#32
  | 97 => 0x3D009DB2#32
  | 98 => 0xBF1AFE24#32
  | 99 => 0x3ED15624#32
  | 100 => 0xBD6D1C6D#32
  | 101 => 0xBE0471BD#32
  | 102 => 0xBDCFA290#32
  | 103 => 0x3FC4D1FE#32
  | 104 => 0xBE69FC46#32
  | 105 => 0x3F35F5B4#32
  | 106 => 0x3F902126#32
  | 107 => 0x3F91DCCF#32
  | 108 => 0x3F696671#32
  | 109 => 0x3F7617A4#32
  | 110 => 0x3D327DDC#32
  | 111 => 0x400D40E9#32
  | 112 => 0x3F64C7EE#32
  | 113 => 0x3FB875AC#32
  | 114 => 0xBEAA26FD#32
  | 115 => 0x4007105E#32
  | 116 => 0x3E8146CA#32
  | 117 => 0x3E85ABA5#32
  | 118 => 0xBE86F488#32
  | 119 => 0x3C910694#32
  | 120 => 0x40109421#32
  | 121 => 0xBE9891EF#32
  | 122 => 0xBEB1F125#32
  | 123 => 0xBF97EAC7#32
  | 124 => 0xBF3D9C36#32
  | 125 => 0xBEC1A404#32
  | 126 => 0x3F827B21#32
  | 127 => 0x3F1C0C6E#32
  | _ => 0#32

noncomputable abbrev lit0t0_505 (i : Nat) : BitVec 32 := match i % 128 with
  | 0 => 0xBF3A153E#32
  | 1 => 0x3F9FD9D4#32
  | 2 => 0xBF231EC6#32
  | 3 => 0x3F32B672#32
  | 4 => 0x3F5B1AB3#32
  | 5 => 0xBEC0C0CC#32
  | 6 => 0x3E8CDD80#32
  | 7 => 0x3ECEAB8A#32
  | 8 => 0x3F73BB64#32
  | 9 => 0x3F4B9A8C#32
  | 10 => 0x3F44F8E5#32
  | 11 => 0x4016A781#32
  | 12 => 0x40A44C6E#32
  | 13 => 0x3FDADE36#32
  | 14 => 0xBE214A59#32
  | 15 => 0x3F5F7EF4#32
  | 16 => 0x3F552A67#32
  | 17 => 0x3F7A5F82#32
  | 18 => 0xBEB73934#32
  | 19 => 0x3FF67B13#32
  | 20 => 0x3E8358DF#32
  | 21 => 0xBF42E60B#32
  | 22 => 0x405B9F0E#32
  | 23 => 0x40539CDD#32
  | 24 => 0x3B28E2A8#32
  | 25 => 0xBE1718CC#32
  | 26 => 0x3DB41415#32
  | 27 => 0x400E0FC5#32
  | 28 => 0x3F5260C0#32
  | 29 => 0xBEEA1A74#32
  | 30 => 0xBEB73244#32
  | 31 => 0xBEA7BD64#32
  | 32 => 0xBE7F7937#32
  | 33 => 0xBAABE721#32
  | 34 => 0x3EF8472C#32
  | 35 => 0xBF9DD82F#32
  | 36 => 0xBFF449EA#32
  | 37 => 0xBF8D8C73#32
  | 38 => 0x3DB090BF#32
  | 39 => 0x3F3E6676#32
  | 40 => 0x3E444C71#32
  | 41 => 0xBF0665E6#32
  | 42 => 0x3E0CFE98#32
  | 43 => 0x400957D2#32
  | 44 => 0x3F39F68C#32
  | 45 => 0xBF3D17E6#32
  | 46 => 0x3DE43C9B#32
  | 47 => 0x3F487217#32
  | 48 => 0x3F9A0A56#32
  | 49 => 0x40886E03#32
  | 50 => 0xBD65FE39#32
  | 51 => 0xBD660EE2#32
  | 52 => 0x40731C60#32
  | 53 => 0x3EDA3ACE#32
  | 54 => 0x4068DCE3#32
  | 55 => 0x3FE3EB01#32
  | 56 => 0x3FC74105#32
  | 57 => 0xBEEED07E#32
  | 58 => 0x3F22A320#32
  | 59 => 0x3F1648C0#32
  | 60 => 0x3F45CDCD#32
  | 61 => 0x40022C56#32
  | 62 => 0xBD2A589E#32
  | 63 => 0xBDFB70EA#32
  | 64 => 0x400E4D4D#32
  | 65 => 0xBED9D9A7#32
  | 66 => 0x3F6C373A#32
  | 67 => 0xBF08B9AA#32
  | 68 => 0x40371CAB#32
  | 69 => 0xBF948C38#32
  | 70 => 0x40744250#32
  | 71 => 0x3EA05340#32
  | 72 => 0x3F6320BD#32
  | 73 => 0x3FD5BD41#32
  | 74 => 0xBF38B8EE#32
  | 75 => 0x3FAF4083#32
  | 76 => 0xBF018DFC#32
  | 77 => 0x3F9F0D91#32
  | 78 => 0xBE0CD095#32
  | 79 => 0xBF8EF248#32
  | 80 => 0xBE5F1E2E#32
  | 81 => 0x3FA71228#32
  | 82 => 0x3FE87F93#32
  | 83 => 0x3F16A425#32
  | 84 => 0xBE8A888F#32
  | 85 => 0x3FE8DD54#32
  | 86 => 0xBF2FC723#32
  | 87 => 0xBCBC8854#32
  | 88 => 0xBEFEBC0F#32
  | 89 => 0x3F5D4126#32
  | 90 => 0xBF0D052D#32
  | 91 => 0x3EC4A788#32
  | 92 => 0x4004BED4#32
  | 93 => 0x40493399#32
  | 94 => 0x3FC6EA4C#32
  | 95 => 0x402B1621#32
  | 96 => 0x3C98C116#32
  | 97 => 0xBE9291A4#32
  | 98 => 0x402570B5#32
  | 99 => 0xBF1D0D97#32
  | 100 => 0xBF0CE3F3#32
  | 101 => 0x3F31FE2E#32
  | 102 => 0xBE4503F3#32
  | 103 => 0xBE83EEFB#32
  | 104 => 0x3F9B7D79#32
  | 105 => 0x3FB63CAA#32
  | 106 => 0xBE0639C1#32
  | 107 => 0x3CDB33E1#32
  | 108 => 0x3F39AB0A#32
  | 109 => 0x3E26C187#32
  | 110 => 0xBF5662EF#32
  | 111 => 0xBEDD8366#32
  | 112 => 0xBFA82FB1#32
  | 113 => 0x3F7DC3C8#32
  | 114 => 0xBEF471BF#32
  | 115 => 0x4051CA73#32
  | 116 => 0xBF0FA501#32
  | 117 => 0xBDB639AD#32
  | 118 => 0xBF1DC364#32
  | 119 => 0xBDCB80ED#32
  | 120 => 0x3FD4259A#32
  | 121 => 0xBF861290#32
  | 122 => 0x3F25F7AD#32
  | 123 => 0x4000A5E3#32
  | 124 => 0x3F4AB131#32
  | 125 => 0x3F000B81#32
  | 126 => 0x3FA9D71D#32
  | 127 => 0xBEAFD57C#32
  | _ => 0#32

noncomputable abbrev lit0t0_506 (i : Nat) : BitVec 32 := match i % 128 with
  | 0 => 0x3FF884BF#32
  | 1 => 0x407758F6#32
  | 2 => 0xBEE60A6B#32
  | 3 => 0xBF8769C5#32
  | 4 => 0x3F043E07#32
  | 5 => 0xBE61D977#32
  | 6 => 0xBED3CECB#32
  | 7 => 0xBE8A66DF#32
  | 8 => 0x3A20448A#32
  | 9 => 0x3F1EFE88#32
  | 10 => 0x3EED5E24#32
  | 11 => 0x40496BF8#32
  | 12 => 0xBF2769A5#32
  | 13 => 0x3F965EC2#32
  | 14 => 0x3FA557E8#32
  | 15 => 0x3DA8297A#32
  | 16 => 0x3EE84750#32
  | 17 => 0x3EA04061#32
  | 18 => 0x3FBC2CC1#32
  | 19 => 0x3F028F57#32
  | 20 => 0x3F04FAFA#32
  | 21 => 0x3ECEC37F#32
  | 22 => 0x3C0CDA0D#32
  | 23 => 0xBF07474E#32
  | 24 => 0x3FA8EE4E#32
  | 25 => 0x3F0869F2#32
  | 26 => 0x3F8DA9BF#32
  | 27 => 0x3EA5F834#32
  | 28 => 0x3ED5DDBA#32
  | 29 => 0x3F7C88ED#32
  | 30 => 0x404D7DBB#32
  | 31 => 0x3F8F50B8#32
  | 32 => 0xBFD21E42#32
  | 33 => 0xBF256C83#32
  | 34 => 0xBE31FA11#32
  | 35 => 0xBFB87813#32
  | 36 => 0x3EF697FA#32
  | 37 => 0x3F9192E8#32
  | 38 => 0x3F0BE2FC#32
  | 39 => 0xBF63C2DC#32
  | 40 => 0x3F88E794#32
  | 41 => 0xBF3E93DB#32
  | 42 => 0xBF30ED9E#32
  | 43 => 0x3E2CA164#32
  | 44 => 0xBE91F1F8#32
  | 45 => 0x3F5325E2#32
  | 46 => 0x3F865BA1#32
  | 47 => 0x3F705D30#32
  | 48 => 0xBE0184F1#32
  | 49 => 0x3F872AE0#32
  | 50 => 0x3EA6063D#32
  | 51 => 0x3F888D7E#32
  | 52 => 0x3FE0D5C3#32
  | 53 => 0xBDBD993F#32
  | 54 => 0x3F05308F#32
  | 55 => 0x3F669265#32
  | 56 => 0xBFAD0980#32
  | 57 => 0x40198628#32
  | 58 => 0xBFB60575#32
  | 59 => 0x408205AE#32
  | 60 => 0x3F7E980E#32
  | 61 => 0xBEB888A3#32
  | 62 => 0x3F0BC303#32
  | 63 => 0xBF0307C4#32
  | 64 => 0x3F177681#32
  | 65 => 0xBF1B26EE#32
  | 66 => 0x3FDBEAA8#32
  | 67 => 0xBF8009E2#32
  | 68 => 0xBF9DF46B#32
  | 69 => 0x405481BC#32
  | 70 => 0x3FBA1491#32
  | 71 => 0xBD5E85B7#32
  | 72 => 0x3DF8CB9E#32
  | 73 => 0x3F28DDFA#32
  | 74 => 0x3FECF49E#32
  | 75 => 0xBF61AC89#32
  | 76 => 0x4055BDE5#32
  | 77 => 0xBD278648#32
  | 78 => 0xBF2410B0#32
  | 79 => 0x3E6872B6#32
  | 80 => 0x3EB1AFFE#32
  | 81 => 0xBF3FB10C#32
  | 82 => 0x3F04D31A#32
  | 83 => 0xBCF9D311#32
  | 84 => 0x3F7809B0#32
  | 85 => 0xBF57E7A2#32
  | 86 => 0xBF5FA250#32
  | 87 => 0x3E9015BC#32
  | 88 => 0x3FC11457#32
  | 89 => 0x3F8F97B1#32
  | 90 => 0x403D5B43#32
  | 91 => 0xBEAF05F6#32
  | 92 => 0x3ED54FCB#32
  | 93 => 0x402025D8#32
  | 94 => 0x3DA3652F#32
  | 95 => 0x408387AF#32
  | 96 => 0x3F1F349E#32
  | 97 => 0xBF99F168#32
  | 98 => 0x40421B0A#32
  | 99 => 0xBE80CEC1#32
  | 100 => 0xBF4C18F2#32
  | 101 => 0xBDD606B8#32
  | 102 => 0x3F9500EE#32
  | 103 => 0xBE5FFF0A#32
  | 104 => 0xBF3DE9A6#32
  | 105 => 0x404AFA93#32
  | 106 => 0x3ECD41B2#32
  | 107 => 0x3F7D4A7C#32
  | 108 => 0xBF2DC306#32
  | 109 => 0xBE494F4D#32
  | 110 => 0x3FDB11D2#32
  | 111 => 0x3F60DCA3#32
  | 112 => 0xBFADBAD7#32
  | 113 => 0x4014D37D#32
  | 114 => 0x3DFF679E#32
  | 115 => 0xBE36CE5A#32
  | 116 => 0x3E2D1CC6#32
  | 117 => 0xBF64AA68#32
  | 118 => 0x3FC543E3#32
  | 119 => 0x3FAFBD74#32
  | 120 => 0x3F32C123#32
  | 121 => 0x3FA2755F#32
  | 122 => 0x3F5692E8#32
  | 123 => 0xBF206B7D#32
  | 124 => 0x3FA76E4A#32
  | 125 => 0x3F5811A3#32
  | 126 => 0x400DB8B3#32
  | 127 => 0x3FD72342#32
  | _ => 0#32

noncomputable abbrev lit0t0_507 (i : Nat) : BitVec 32 := match i % 128 with
  | 0 => 0x3E1114D0#32
  | 1 => 0x3E7DB531#32
  | 2 => 0x3F85BEFB#32
  | 3 => 0xBF800E49#32
  | 4 => 0x4003B21E#32
  | 5 => 0x3F58F4C6#32
  | 6 => 0x3F6EA449#32
  | 7 => 0x3FF1DB27#32
  | 8 => 0x400E6CC7#32
  | 9 => 0x3F93D756#32
  | 10 => 0x40904926#32
  | 11 => 0x3E984C56#32
  | 12 => 0xBF25D758#32
  | 13 => 0xBE211F63#32
  | 14 => 0xBF565952#32
  | 15 => 0x3EC34796#32
  | 16 => 0x3FB38B60#32
  | 17 => 0xBDD5F136#32
  | 18 => 0x3EBDA748#32
  | 19 => 0x3FBFCAA8#32
  | 20 => 0xBF8200E6#32
  | 21 => 0x3DE8A494#32
  | 22 => 0xBC0BE52B#32
  | 23 => 0xBF58BD6E#32
  | 24 => 0x3FB88BFD#32
  | 25 => 0xBEF58774#32
  | 26 => 0x3F92A9A8#32
  | 27 => 0xBEC71F1A#32
  | 28 => 0xBF72AE0E#32
  | 29 => 0xBF406675#32
  | 30 => 0x3F963920#32
  | 31 => 0x3F94ACB7#32
  | 32 => 0x3F844EDF#32
  | 33 => 0xBFD436F4#32
  | 34 => 0xBDB68BC7#32
  | 35 => 0x3E7B6A5D#32
  | 36 => 0x3EC1A6DD#32
  | 37 => 0xBE94295F#32
  | 38 => 0xBEACA57A#32
  | 39 => 0x3FE66284#32
  | 40 => 0x3E663523#32
  | 41 => 0x4020C9EC#32
  | 42 => 0xBF5C0067#32
  | 43 => 0x4002096F#32
  | 44 => 0x400A24B3#32
  | 45 => 0x3F1E961D#32
  | 46 => 0xBF4BBBC6#32
  | 47 => 0x3FC591F2#32
  | 48 => 0x3F385247#32
  | 49 => 0xBF3689EA#32
  | 50 => 0x401F98D7#32
  | 51 => 0xBFB79CC6#32
  | 52 => 0xBEF3264A#32
  | 53 => 0x3EA630F2#32
  | 54 => 0x3D49434B#32
  | 55 => 0xBED852ED#32
  | 56 => 0xBD22A398#32
  | 57 => 0xBEA64426#32
  | 58 => 0xBEDBD46B#32
  | 59 => 0x3FDFBD76#32
  | 60 => 0x3EA69E07#32
  | 61 => 0x3CC140FC#32
  | 62 => 0x3E4E367B#32
  | 63 => 0x401F63F7#32
  | 64 => 0x3F673207#32
  | 65 => 0x403CFE93#32
  | 66 => 0xBF0F2D29#32
  | 67 => 0x4004645F#32
  | 68 => 0x3F9A2E55#32
  | 69 => 0x3F7C76A6#32
  | 70 => 0xBE853F9E#32
  | 71 => 0x3FFF6083#32
  | 72 => 0xBECEC348#32
  | 73 => 0x3F1EFF68#32
  | 74 => 0x3FEEA55E#32
  | 75 => 0x3F7D8012#32
  | 76 => 0x3E008919#32
  | 77 => 0xBF08FDE2#32
  | 78 => 0x3F0CB5C1#32
  | 79 => 0x3E438FDE#32
  | 80 => 0xBDDC23AA#32
  | 81 => 0x3FBD6C8A#32
  | 82 => 0x3E3C720A#32
  | 83 => 0x3FE6ADB6#32
  | 84 => 0x3F3D56F2#32
  | 85 => 0xBFBD5355#32
  | 86 => 0x3F9E225D#32
  | 87 => 0xBEFDB3CE#32
  | 88 => 0x3F780DD6#32
  | 89 => 0xBED912C4#32
  | 90 => 0xBE0710ED#32
  | 91 => 0xBF70411E#32
  | 92 => 0xBDEAABF1#32
  | 93 => 0xBDD6EE39#32
  | 94 => 0xBF156ACD#32
  | 95 => 0x3F1C4CC7#32
  | 96 => 0x401107FE#32
  | 97 => 0xBFDBFA49#32
  | 98 => 0x3FC25216#32
  | 99 => 0x3FDA3FC5#32
  | 100 => 0xBF42FCE7#32
  | 101 => 0x404937B7#32
  | 102 => 0xBE64F125#32
  | 103 => 0x3FCAD55B#32
  | 104 => 0x3F6115C7#32
  | 105 => 0xBF1527BB#32
  | 106 => 0xBE4A8109#32
  | 107 => 0x3FA20B92#32
  | 108 => 0x3F9D19D9#32
  | 109 => 0xBE756371#32
  | 110 => 0x40529677#32
  | 111 => 0x3D39CFF0#32
  | 112 => 0x4054EBCE#32
  | 113 => 0xBED10953#32
  | 114 => 0xBFCC5906#32
  | 115 => 0x401628EC#32
  | 116 => 0x3C0026B8#32
  | 117 => 0x3E286544#32
  | 118 => 0xBF36A2FB#32
  | 119 => 0x3E02A05D#32
  | 120 => 0xBE49B948#32
  | 121 => 0xBECBBDB4#32
  | 122 => 0x3EEDB375#32
  | 123 => 0xBF807713#32
  | 124 => 0xBF48E508#32
  | 125 => 0x3FB65530#32
  | 126 => 0xBE6472CB#32
  | 127 => 0xBD5FE490#32
  | _ => 0#32

noncomputable abbrev lit0t0_508 (i : Nat) : BitVec 32 := match i % 128 with
  | 0 => 0x3F3123E8#32
  | 1 => 0x3ECF4625#32
  | 2 => 0x3D9C8A3A#32
  | 3 => 0x3F85D97E#32
  | 4 => 0xBD928592#32
  | 5 => 0x3E59EA9A#32
  | 6 => 0x3DDCBFFD#32
  | 7 => 0xBF2D68EF#32
  | 8 => 0xBF2483D7#32
  | 9 => 0x3FA3DFAA#32
  | 10 => 0x3EEB2EA5#32
  | 11 => 0x3FE23A9C#32
  | 12 => 0xBF2E91AF#32
  | 13 => 0x40249EB2#32
  | 14 => 0xBF372751#32
  | 15 => 0x40077D92#32
  | 16 => 0x408276B7#32
  | 17 => 0xBF6B2EA9#32
  | 18 => 0x3E8B0F75#32
  | 19 => 0xBE6AE6BC#32
  | 20 => 0x40955E42#32
  | 21 => 0xBFBA25FF#32
  | 22 => 0x3EC960BA#32
  | 23 => 0x3FCC500A#32
  | 24 => 0x3F402326#32
  | 25 => 0x40259ED5#32
  | 26 => 0x3FEC3E05#32
  | 27 => 0x3F702D0E#32
  | 28 => 0xBF8F7571#32
  | 29 => 0x3FBA8BB2#32
  | 30 => 0x3F07842D#32
  | 31 => 0xBECF0437#32
  | 32 => 0xBF8FAEC8#32
  | 33 => 0xBC7DA9B4#32
  | 34 => 0x40561B7E#32
  | 35 => 0x40522110#32
  | 36 => 0x3FA95948#32
  | 37 => 0xBEAB50FA#32
  | 38 => 0xBEEFC588#32
  | 39 => 0xBDF7CF68#32
  | 40 => 0x3CD96785#32
  | 41 => 0xBF859D23#32
  | 42 => 0x3EA7CE8B#32
  | 43 => 0xBF53E390#32
  | 44 => 0x3F93CA3D#32
  | 45 => 0x3EF05C56#32
  | 46 => 0x3E289076#32
  | 47 => 0x3F0D564D#32
  | 48 => 0x3F4DDDE2#32
  | 49 => 0xBF61E3C1#32
  | 50 => 0xBEC20564#32
  | 51 => 0xBF832E28#32
  | 52 => 0xBF9A8C84#32
  | 53 => 0x3F88012A#32
  | 54 => 0xBEAEDA82#32
  | 55 => 0x3F19CEDA#32
  | 56 => 0xBF7E3891#32
  | 57 => 0xBF8D2177#32
  | 58 => 0xBE450407#32
  | 59 => 0x3F033B75#32
  | 60 => 0x3EA5D24F#32
  | 61 => 0x3D8906BE#32
  | 62 => 0xBEAA3276#32
  | 63 => 0x3BF91238#32
  | 64 => 0xBE2F2081#32
  | 65 => 0x3E7BBF71#32
  | 66 => 0x4026BFF7#32
  | 67 => 0xBF825C11#32
  | 68 => 0x3F9051AA#32
  | 69 => 0xBE480F74#32
  | 70 => 0x40CD999B#32
  | 71 => 0x3FE16FAF#32
  | 72 => 0x4089CFE2#32
  | 73 => 0x3F959DE0#32
  | 74 => 0x3F426AE3#32
  | 75 => 0x3E94B8BB#32
  | 76 => 0xBF20C420#32
  | 77 => 0xBE6A9BC4#32
  | 78 => 0x3F7F934E#32
  | 79 => 0x3ED71DBC#32
  | 80 => 0x3E110837#32
  | 81 => 0x3EE8F291#32
  | 82 => 0xBF2F3119#32
  | 83 => 0xBE932B8E#32
  | 84 => 0x3DDD6E17#32
  | 85 => 0x3FDF0967#32
  | 86 => 0xBE8033DE#32
  | 87 => 0x3FBFBCFA#32
  | 88 => 0xBEF23DFD#32
  | 89 => 0x3F5B5895#32
  | 90 => 0x3EB670A3#32
  | 91 => 0xBE7D203F#32
  | 92 => 0xBE469527#32
  | 93 => 0x3EA35D7B#32
  | 94 => 0x3F980494#32
  | 95 => 0x402325D6#32
  | 96 => 0x3D242154#32
  | 97 => 0x3EDC8E3A#32
  | 98 => 0xBECD09F2#32
  | 99 => 0x3E2555E0#32
  | 100 => 0x3DA07EAB#32
  | 101 => 0x3F2131A0#32
  | 102 => 0xBCE50A9E#32
  | 103 => 0xBEFA3C06#32
  | 104 => 0x3F00A96B#32
  | 105 => 0x3F32DE61#32
  | 106 => 0x3D4A887F#32
  | 107 => 0x406CF49F#32
  | 108 => 0x3EB12AD7#32
  | 109 => 0x3F923401#32
  | 110 => 0xBF41ACDB#32
  | 111 => 0xBEF6D5C2#32
  | 112 => 0x3EF982A4#32
  | 113 => 0xBF043990#32
  | 114 => 0x3ED15E6B#32
  | 115 => 0x40178C38#32
  | 116 => 0xBEEEB144#32
  | 117 => 0x4098B7D1#32
  | 118 => 0xBD8EE805#32
  | 119 => 0x3DF4F548#32
  | 120 => 0x3FDA39A9#32
  | 121 => 0x3F4A56B3#32
  | 122 => 0x403A5FA5#32
  | 123 => 0x3FB23EAF#32
  | 124 => 0x40E51340#32
  | 125 => 0xBFA91188#32
  | 126 => 0x3E1A2FBB#32
  | 127 => 0x3EAFB723#32
  | _ => 0#32

noncomputable abbrev lit0t0_509 (i : Nat) : BitVec 32 := match i % 128 with
  | 0 => 0x40002E6E#32
  | 1 => 0x3F187688#32
  | 2 => 0x3BDB0B01#32
  | 3 => 0x3E946718#32
  | 4 => 0x3F3AFB25#32
  | 5 => 0x3FE1A324#32
  | 6 => 0x3DEB091C#32
  | 7 => 0x3FB2EC09#32
  | 8 => 0x3F0ED15C#32
  | 9 => 0xBEF2D3CA#32
  | 10 => 0x3E9AAD92#32
  | 11 => 0x405C4DD2#32
  | 12 => 0xBF8B6938#32
  | 13 => 0xBF1CC66B#32
  | 14 => 0x404185FB#32
  | 15 => 0xBEA9817B#32
  | 16 => 0x40475569#32
  | 17 => 0x3ED4F651#32
  | 18 => 0xBF8C6553#32
  | 19 => 0x3E9355EB#32
  | 20 => 0x4074DBA2#32
  | 21 => 0x405DA31A#32
  | 22 => 0x3F64622F#32
  | 23 => 0x3FD124F8#32
  | 24 => 0xBD5084A7#32
  | 25 => 0x406F6702#32
  | 26 => 0x3F9809CF#32
  | 27 => 0x3F8DABF3#32
  | 28 => 0x3EABCF5E#32
  | 29 => 0xBDBDDB9D#32
  | 30 => 0x3FF64593#32
  | 31 => 0xBE51D156#32
  | 32 => 0x3F1ABC7A#32
  | 33 => 0xBD84FCE2#32
  | 34 => 0xBF3EDC4F#32
  | 35 => 0x3E9DE5F8#32
  | 36 => 0x3EDAF3FF#32
  | 37 => 0xBEE765AC#32
  | 38 => 0x3EB8B3B0#32
  | 39 => 0xBE5D3C16#32
  | 40 => 0x4050CC85#32
  | 41 => 0x3EE32AC8#32
  | 42 => 0xBF23C8B4#32
  | 43 => 0x3FF6DD0A#32
  | 44 => 0x40137274#32
  | 45 => 0xBE2810B0#32
  | 46 => 0xBEDF4B17#32
  | 47 => 0x3F6E9DDF#32
  | 48 => 0xBF5682A3#32
  | 49 => 0xBE314931#32
  | 50 => 0x3FC389F6#32
  | 51 => 0x3EE2C8EB#32
  | 52 => 0x3F5FC22D#32
  | 53 => 0x3D6A11DE#32
  | 54 => 0x3F0F169D#32
  | 55 => 0x3E7440B1#32
  | 56 => 0xBEE72680#32
  | 57 => 0x402B4FE2#32
  | 58 => 0x3E88A817#32
  | 59 => 0xBF9C6E28#32
  | 60 => 0xBF018812#32
  | 61 => 0x3FC87F4C#32
  | 62 => 0x3F4D65CB#32
  | 63 => 0x3D8B5ECE#32
  | 64 => 0x3F2CDCD5#32
  | 65 => 0x3F0F1F22#32
  | 66 => 0x3E41BD90#32
  | 67 => 0xBF10DA3C#32
  | 68 => 0x403E44BA#32
  | 69 => 0x400BFA36#32
  | 70 => 0xBF068D24#32
  | 71 => 0xBC8E9AA6#32
  | 72 => 0x3FC3ADD2#32
  | 73 => 0x3F8FE42B#32
  | 74 => 0x3F825E88#32
  | 75 => 0x3F063A95#32
  | 76 => 0xBF7D1BBE#32
  | 77 => 0x402469CD#32
  | 78 => 0x402CBB60#32
  | 79 => 0x3FDC89B4#32
  | 80 => 0xBFB89EFB#32
  | 81 => 0x3F9A2E48#32
  | 82 => 0x3D241508#32
  | 83 => 0x4012980E#32
  | 84 => 0xBF19F58F#32
  | 85 => 0x3F1F5052#32
  | 86 => 0xBE2EEA52#32
  | 87 => 0x404648BD#32
  | 88 => 0x3E8E0D18#32
  | 89 => 0xBE6DDD32#32
  | 90 => 0x3FA31A7D#32
  | 91 => 0x3F7539F0#32
  | 92 => 0xBF426462#32
  | 93 => 0xBEC846FF#32
  | 94 => 0x3F109CD4#32
  | 95 => 0x4044D61F#32
  | 96 => 0x3FEB8966#32
  | 97 => 0x3F7E39BE#32
  | 98 => 0xBED726BD#32
  | 99 => 0xBEEB637C#32
  | 100 => 0x3F49FD8E#32
  | 101 => 0xBEB5D858#32
  | 102 => 0xBE234455#32
  | 103 => 0x4009D069#32
  | 104 => 0x40404A41#32
  | 105 => 0xBDE6953B#32
  | 106 => 0x3F8795A8#32
  | 107 => 0x3EE086B5#32
  | 108 => 0xBE480FF8#32
  | 109 => 0xBEDE749E#32
  | 110 => 0xBF0CB1F5#32
  | 111 => 0x3DBF37AC#32
  | 112 => 0xBE8346AF#32
  | 113 => 0xBF81A712#32
  | 114 => 0xBE220549#32
  | 115 => 0xBE83E79D#32
  | 116 => 0x3EDA5590#32
  | 117 => 0xBE8BC5C7#32
  | 118 => 0xBFBC360B#32
  | 119 => 0x3DBB9F21#32
  | 120 => 0x3EE965AC#32
  | 121 => 0xBF03AEB2#32
  | 122 => 0x3FB3566F#32
  | 123 => 0x3FCBB631#32
  | 124 => 0xBE8FA4A8#32
  | 125 => 0xBF6DE5E5#32
  | 126 => 0xBEE308F5#32
  | 127 => 0x3E77DDD1#32
  | _ => 0#32

noncomputable abbrev lit0t0_510 (i : Nat) : BitVec 32 := match i % 128 with
  | 0 => 0x3EBA25E1#32
  | 1 => 0x3E3E4EBB#32
  | 2 => 0xBF844D1D#32
  | 3 => 0x3F0EC165#32
  | 4 => 0x3F91BC2F#32
  | 5 => 0xBF1B3495#32
  | 6 => 0x3F2DDA4A#32
  | 7 => 0xBD0F45FB#32
  | 8 => 0x3F365279#32
  | 9 => 0x3F3E7515#32
  | 10 => 0xBE2DE6C4#32
  | 11 => 0x400C3457#32
  | 12 => 0x3EDA2EC2#32
  | 13 => 0x402FEBC2#32
  | 14 => 0x3C991B82#32
  | 15 => 0x402BA3AB#32
  | 16 => 0x3F285BC2#32
  | 17 => 0x3EA66C7E#32
  | 18 => 0x3F96395D#32
  | 19 => 0x3FAA5453#32
  | 20 => 0xBE5959F7#32
  | 21 => 0x3EFE07A3#32
  | 22 => 0x407D1C4F#32
  | 23 => 0x3FE8D232#32
  | 24 => 0x3FBC0A2B#32
  | 25 => 0x3EA66CEF#32
  | 26 => 0x3FD5ADBA#32
  | 27 => 0x3F4DAC52#32
  | 28 => 0xBF12D83A#32
  | 29 => 0x3D024AAA#32
  | 30 => 0xBE5C4BCE#32
  | 31 => 0xBF6A2A24#32
  | 32 => 0xBF53A286#32
  | 33 => 0x407B5F27#32
  | 34 => 0xBBB04F5B#32
  | 35 => 0xBE932953#32
  | 36 => 0x3FBDD772#32
  | 37 => 0xBF0559A2#32
  | 38 => 0x3F8A1C14#32
  | 39 => 0x3D849AB8#32
  | 40 => 0x3F9099B0#32
  | 41 => 0x3E4E649F#32
  | 42 => 0x3E8F20D5#32
  | 43 => 0x3DA9E0E9#32
  | 44 => 0xBF34BD69#32
  | 45 => 0x3F966740#32
  | 46 => 0x3FFB7E34#32
  | 47 => 0x3FC84BAB#32
  | 48 => 0xBF5499F3#32
  | 49 => 0xBFAF9AB5#32
  | 50 => 0x3F106230#32
  | 51 => 0xBF787529#32
  | 52 => 0xBFD6482A#32
  | 53 => 0x3E286E7A#32
  | 54 => 0x3FC1817E#32
  | 55 => 0xBEEE0ABC#32
  | 56 => 0x3E9523C5#32
  | 57 => 0x3E089E8C#32
  | 58 => 0xBFC13E6E#32
  | 59 => 0x3F4009BB#32
  | 60 => 0xBE9ACA34#32
  | 61 => 0xBFCAECB8#32
  | 62 => 0x40053141#32
  | 63 => 0xBF877089#32
  | 64 => 0x3EEEBD96#32
  | 65 => 0x3F9BE35D#32
  | 66 => 0x3F37CB6B#32
  | 67 => 0x3ECFC818#32
  | 68 => 0xBF878FD4#32
  | 69 => 0x3F66E9FC#32
  | 70 => 0xBF321323#32
  | 71 => 0x3FF90545#32
  | 72 => 0x3EC3C5EF#32
  | 73 => 0x407B12A4#32
  | 74 => 0x3ED6A3FE#32
  | 75 => 0x3EBECC9A#32
  | 76 => 0x3FAC0469#32
  | 77 => 0x3F90EB92#32
  | 78 => 0xBF2C54C8#32
  | 79 => 0xBF743D64#32
  | 80 => 0x3FBB48E3#32
  | 81 => 0x3C8D2F2C#32
  | 82 => 0x3E9FBBA9#32
  | 83 => 0xBF82CCDB#32
  | 84 => 0x3FBFAC55#32
  | 85 => 0x4088F798#32
  | 86 => 0xBE4B7D8D#32
  | 87 => 0x3F1A1A36#32
  | 88 => 0x3F0150B3#32
  | 89 => 0xBF4D08D4#32
  | 90 => 0x3DE00C63#32
  | 91 => 0x3E7F0E55#32
  | 92 => 0x3F3D18FE#32
  | 93 => 0x3FEC8295#32
  | 94 => 0x3FF4E1D4#32
  | 95 => 0x40147D36#32
  | 96 => 0x3FBB73DF#32
  | 97 => 0x3DD9D5C8#32
  | 98 => 0x3E31B0C6#32
  | 99 => 0x400C65B3#32
  | 100 => 0x3F8A137B#32
  | 101 => 0x3F55F3F1#32
  | 102 => 0xBFBACE11#32
  | 103 => 0x3DBBD536#32
  | 104 => 0xBF5F7F8A#32
  | 105 => 0x3F13CE20#32
  | 106 => 0x404C6193#32
  | 107 => 0xBC38221F#32
  | 108 => 0xBFAA7EA5#32
  | 109 => 0x3EF78FD8#32
  | 110 => 0xBFA42A35#32
  | 111 => 0x3EBC3B42#32
  | 112 => 0xBEE126CF#32
  | 113 => 0x3D175D3C#32
  | 114 => 0xB796FFA7#32
  | 115 => 0x3F5F53A6#32
  | 116 => 0xBE6B88B1#32
  | 117 => 0x3FA1061B#32
  | 118 => 0x400F97EC#32
  | 119 => 0x3E36CA66#32
  | 120 => 0x3FD19EF1#32
  | 121 => 0xBFA0B4E2#32
  | 122 => 0x3F019895#32
  | 123 => 0xBEB7C28A#32
  | 124 => 0xBF102433#32
  | 125 => 0x3F3FE288#32
  | 126 => 0xBD627D21#32
  | 127 => 0x3D81EB29#32
  | _ => 0#32

noncomputable abbrev lit0t0_511 (i : Nat) : BitVec 32 := match i % 128 with
  | 0 => 0xBF6D37AF#32
  | 1 => 0x4080E8D4#32
  | 2 => 0x3F33E9BD#32
  | 3 => 0x3FE17169#32
  | 4 => 0xBE147397#32
  | 5 => 0x400FDFD3#32
  | 6 => 0xBFA9C4C0#32
  | 7 => 0xBE2CC1E1#32
  | 8 => 0xBE34036B#32
  | 9 => 0x3FD8C5A2#32
  | 10 => 0x3FA93387#32
  | 11 => 0x3F91BA00#32
  | 12 => 0xBC976DFC#32
  | 13 => 0xBF600886#32
  | 14 => 0x3FD6CFCF#32
  | 15 => 0x3F3B61F3#32
  | 16 => 0xBED49BA4#32
  | 17 => 0x3F111B6B#32
  | 18 => 0xBF723644#32
  | 19 => 0xBEB3F694#32
  | 20 => 0xBE82F344#32
  | 21 => 0xBEFF31CB#32
  | 22 => 0xBE137F12#32
  | 23 => 0x4080DA8C#32
  | 24 => 0xBFAB10E8#32
  | 25 => 0xBC84D785#32
  | 26 => 0xBF7286F0#32
  | 27 => 0xBF224E28#32
  | 28 => 0x3EC8552E#32
  | 29 => 0x3F0D7ABF#32
  | 30 => 0x3FF354A2#32
  | 31 => 0x3E106167#32
  | 32 => 0x3EBB8051#32
  | 33 => 0x3F789F5C#32
  | 34 => 0xBF916362#32
  | 35 => 0xBD0EA9E6#32
  | 36 => 0x3F399BCC#32
  | 37 => 0x3F856363#32
  | 38 => 0x3DC423C8#32
  | 39 => 0xBDFEA661#32
  | 40 => 0xBF2F3B39#32
  | 41 => 0x40365BBE#32
  | 42 => 0x3F8A18C2#32
  | 43 => 0x3F31CAAB#32
  | 44 => 0xBE8FC4AF#32
  | 45 => 0x3FC6EF3F#32
  | 46 => 0x3EF88920#32
  | 47 => 0x400A63D8#32
  | 48 => 0x40BA2867#32
  | 49 => 0x3FBD3EB7#32
  | 50 => 0x40807ECB#32
  | 51 => 0xBF807574#32
  | 52 => 0x3E6A4E86#32
  | 53 => 0x3F87FADA#32
  | 54 => 0xBF4553C1#32
  | 55 => 0x3F9904B8#32
  | 56 => 0x3FDE3188#32
  | 57 => 0xBF08003A#32
  | 58 => 0x3F03B39E#32
  | 59 => 0x3FCCA2B1#32
  | 60 => 0x3EFD26F7#32
  | 61 => 0x3FDFA5C2#32
  | 62 => 0x4097D420#32
  | 63 => 0x3EA5B3D0#32
  | 64 => 0x3F33A0BC#32
  | 65 => 0x3E4D7C5A#32
  | 66 => 0xBEA356B8#32
  | 67 => 0x3F4B3482#32
  | 68 => 0xBF928EBB#32
  | 69 => 0xBF826F4E#32
  | 70 => 0x3FE5F5C8#32
  | 71 => 0xBF3D0F00#32
  | 72 => 0xBF15E94F#32
  | 73 => 0x3FE79710#32
  | 74 => 0xBF1414CD#32
  | 75 => 0x3F600F12#32
  | 76 => 0x3FB527FE#32
  | 77 => 0xBF86A8DE#32
  | 78 => 0x3F529776#32
  | 79 => 0x3EBC78DF#32
  | 80 => 0xBF68D48D#32
  | 81 => 0x3EA43C50#32
  | 82 => 0x3FDE526D#32
  | 83 => 0x3F003C84#32
  | 84 => 0x3CD58DCE#32
  | 85 => 0x3F81784F#32
  | 86 => 0x3E77EC21#32
  | 87 => 0xBEF9C31A#32
  | 88 => 0x3D0AC614#32
  | 89 => 0xBF2F138C#32
  | 90 => 0x3FA33CA4#32
  | 91 => 0x3FA32ED5#32
  | 92 => 0x3F8E69BE#32
  | 93 => 0x3F0EBAD6#32
  | 94 => 0x3E5752CA#32
  | 95 => 0xBEC0E7E4#32
  | 96 => 0x3E4F7330#32
  | 97 => 0xBE611C6F#32
  | 98 => 0x3D100E79#32
  | 99 => 0x3F4EE51E#32
  | 100 => 0xBF5BA359#32
  | 101 => 0x3E9AFCB8#32
  | 102 => 0xBE4850FE#32
  | 103 => 0x3F6A388E#32
  | 104 => 0xBF297B3A#32
  | 105 => 0xBE63B978#32
  | 106 => 0x401B4E0A#32
  | 107 => 0xBFAACBFF#32
  | 108 => 0xBE8292F9#32
  | 109 => 0xBED1E47B#32
  | 110 => 0xBF0B0874#32
  | 111 => 0xBEF0CC5C#32
  | 112 => 0xBFAA5065#32
  | 113 => 0x3E67096E#32
  | 114 => 0x40047FAF#32
  | 115 => 0x3FF74C5E#32
  | 116 => 0x3DD203C7#32
  | 117 => 0x3F42237D#32
  | 118 => 0x3F052FEF#32
  | 119 => 0x3F3EF6DF#32
  | 120 => 0x403FB1A2#32
  | 121 => 0x3F057948#32
  | 122 => 0xBF0A5048#32
  | 123 => 0x3DA47BA3#32
  | 124 => 0xBE076D83#32
  | 125 => 0xBEB17D76#32
  | 126 => 0xBE22A07F#32
  | 127 => 0x3F76FB2E#32
  | _ => 0#32

noncomputable abbrev lit0t0_512 (i : Nat) : BitVec 32 := match i % 128 with
  | 0 => 0xBD3A1555#32
  | 1 => 0x3FD5D796#32
  | 2 => 0xBF7D6F04#32
  | 3 => 0x3EEF156C#32
  | 4 => 0xBF0992EA#32
  | 5 => 0xBEFE8F3C#32
  | 6 => 0x3F294207#32
  | 7 => 0x3DF44511#32
  | 8 => 0x3F56B921#32
  | 9 => 0x4091814C#32
  | 10 => 0x401E47D2#32
  | 11 => 0x401B0E82#32
  | 12 => 0x3FCFED2B#32
  | 13 => 0xBF1F0B31#32
  | 14 => 0x3F670D07#32
  | 15 => 0xBF54CBD2#32
  | 16 => 0x3F90796A#32
  | 17 => 0x3D46ADA4#32
  | 18 => 0xBEE0D865#32
  | 19 => 0xBF02DC31#32
  | 20 => 0xBF1B1FDF#32
  | 21 => 0xBFCA6576#32
  | 22 => 0xBE2B565B#32
  | 23 => 0x3EAC719D#32
  | 24 => 0x3FF628C3#32
  | 25 => 0x4027DF5C#32
  | 26 => 0x3F43415A#32
  | 27 => 0x3FDCA604#32
  | 28 => 0x405B9F7D#32
  | 29 => 0x3F21B2B2#32
  | 30 => 0x4082B05F#32
  | 31 => 0xBF673032#32
  | 32 => 0x3F8EB488#32
  | 33 => 0xBF504B15#32
  | 34 => 0x401088D7#32
  | 35 => 0xBE654006#32
  | 36 => 0x40341834#32
  | 37 => 0x3EB7A0D6#32
  | 38 => 0xBEA38512#32
  | 39 => 0x3F60280A#32
  | 40 => 0x3F0F2CDA#32
  | 41 => 0x3F02D876#32
  | 42 => 0xBDE6B26F#32
  | 43 => 0x3FECD243#32
  | 44 => 0x3FBC2ECF#32
  | 45 => 0x3FD36F34#32
  | 46 => 0xBF705029#32
  | 47 => 0x3F4AC6FA#32
  | 48 => 0x3DF72E16#32
  | 49 => 0x3F6404FE#32
  | 50 => 0x3ED2FA30#32
  | 51 => 0xBF20AD59#32
  | 52 => 0x3ED90DC1#32
  | 53 => 0x3E192FF2#32
  | 54 => 0x3FE551EA#32
  | 55 => 0xBFD27663#32
  | 56 => 0xBF1DF5C2#32
  | 57 => 0xBF63B712#32
  | 58 => 0x3F886F9E#32
  | 59 => 0x3E41C9D1#32
  | 60 => 0x3FAD7B43#32
  | 61 => 0x402303A1#32
  | 62 => 0xBE3D2729#32
  | 63 => 0x3EFE5132#32
  | 64 => 0x3E149779#32
  | 65 => 0x3FCBF71A#32
  | 66 => 0xBF050C6C#32
  | 67 => 0x3FA66921#32
  | 68 => 0x4074551B#32
  | 69 => 0x3F4CDC16#32
  | 70 => 0x3FEFC3DC#32
  | 71 => 0x3EB6C553#32
  | 72 => 0x3FCD2A71#32
  | 73 => 0x408C956F#32
  | 74 => 0x3F7D71D5#32
  | 75 => 0xBE89F20B#32
  | 76 => 0x400CA277#32
  | 77 => 0x3FE27972#32
  | 78 => 0x400286D4#32
  | 79 => 0x401BF421#32
  | 80 => 0x3F73503F#32
  | 81 => 0x3FCCAB53#32
  | 82 => 0xBF730C94#32
  | 83 => 0x3D62A125#32
  | 84 => 0xBF6F0D1E#32
  | 85 => 0xBEA894DE#32
  | 86 => 0x3FE0F7BD#32
  | 87 => 0xBF31BFD4#32
  | 88 => 0x3F3E3DAD#32
  | 89 => 0x3F6001A5#32
  | 90 => 0xBEB520AE#32
  | 91 => 0x3E93FC94#32
  | 92 => 0xBE86FC34#32
  | 93 => 0xBF880110#32
  | 94 => 0x3FFBA68E#32
  | 95 => 0x3F687624#32
  | 96 => 0x3FA1E117#32
  | 97 => 0xBFAA2C75#32
  | 98 => 0xBFE2CDA3#32
  | 99 => 0xBF74E936#32
  | 100 => 0x40740E50#32
  | 101 => 0x3F22BEF4#32
  | 102 => 0x404A5132#32
  | 103 => 0xBF6E34D5#32
  | 104 => 0xBF4FC4DA#32
  | 105 => 0xBF2A1C65#32
  | 106 => 0xBF11E788#32
  | 107 => 0xBF32119A#32
  | 108 => 0xBD53217F#32
  | 109 => 0x3F2A7AB1#32
  | 110 => 0x3EF4EA9F#32
  | 111 => 0xBECC8B51#32
  | 112 => 0x3FA208C7#32
  | 113 => 0x3FC1D095#32
  | 114 => 0x40882F21#32
  | 115 => 0x40650D2A#32
  | 116 => 0xBFB43B67#32
  | 117 => 0x403CCED9#32
  | 118 => 0x3FAEBFC6#32
  | 119 => 0x3EA65D87#32
  | 120 => 0x3E663F68#32
  | 121 => 0x3F940679#32
  | 122 => 0x3F04E927#32
  | 123 => 0x406B5F53#32
  | 124 => 0x3F96BE33#32
  | 125 => 0x401D4735#32
  | 126 => 0x3EBBBED9#32
  | 127 => 0x3F693AC7#32
  | _ => 0#32

noncomputable abbrev lit0t0_513 (i : Nat) : BitVec 32 := match i % 128 with
  | 0 => 0xBEC21229#32
  | 1 => 0x3F4E72CD#32
  | 2 => 0x3ECE0863#32
  | 3 => 0xBD9B5407#32
  | 4 => 0xBE8A0E53#32
  | 5 => 0x406827AC#32
  | 6 => 0x404323B9#32
  | 7 => 0xBEC0A866#32
  | 8 => 0x3FC82F7F#32
  | 9 => 0x3FA3EF40#32
  | 10 => 0xBE67677D#32
  | 11 => 0x3F41650A#32
  | 12 => 0x3FB6E3D2#32
  | 13 => 0xBFA5A585#32
  | 14 => 0xBEA1D574#32
  | 15 => 0x3FCFA549#32
  | 16 => 0x3ED3A1F4#32
  | 17 => 0xBF06727A#32
  | 18 => 0xBEB71C4D#32
  | 19 => 0x40103A9D#32
  | 20 => 0x3FFF37F5#32
  | 21 => 0xBCD5EA3E#32
  | 22 => 0x3F35DE3B#32
  | 23 => 0xBEAEC732#32
  | 24 => 0xBF9FE5EF#32
  | 25 => 0x3F92F8C6#32
  | 26 => 0x402CD59A#32
  | 27 => 0x3E4F70AE#32
  | 28 => 0xBBDBC5E8#32
  | 29 => 0xBF21AA30#32
  | 30 => 0xBEBB60D1#32
  | 31 => 0x4004604E#32
  | 32 => 0x4055A664#32
  | 33 => 0x4032BE66#32
  | 34 => 0x3F90F557#32
  | 35 => 0x4053FF1D#32
  | 36 => 0xBF519D84#32
  | 37 => 0xBF78A12A#32
  | 38 => 0xBF11034F#32
  | 39 => 0x3F936F89#32
  | 40 => 0xBD1DB813#32
  | 41 => 0x3F91FE7E#32
  | 42 => 0xBF47E951#32
  | 43 => 0x408DF524#32
  | 44 => 0xBF82CE48#32
  | 45 => 0x400168DC#32
  | 46 => 0xBFA3BF1D#32
  | 47 => 0x3E728320#32
  | 48 => 0xBF36F48A#32
  | 49 => 0xBF5C9B62#32
  | 50 => 0xBF059E72#32
  | 51 => 0x3EBE62A6#32
  | 52 => 0xBE46A47E#32
  | 53 => 0xBFA9B62F#32
  | 54 => 0xBF9614BB#32
  | 55 => 0xBF7135F7#32
  | 56 => 0x3F9B81D0#32
  | 57 => 0xBE051D61#32
  | 58 => 0x4000A51E#32
  | 59 => 0xBE9ECC9D#32
  | 60 => 0x402D08AD#32
  | 61 => 0xBF509320#32
  | 62 => 0xBEC6A76D#32
  | 63 => 0x3FDB9A6B#32
  | 64 => 0x3EDBC1A7#32
  | 65 => 0x4003A164#32
  | 66 => 0x3F0D9E60#32
  | 67 => 0x402301C4#32
  | 68 => 0xBF488214#32
  | 69 => 0x400469CB#32
  | 70 => 0x407F01FA#32
  | 71 => 0x401A274A#32
  | 72 => 0x3D2957AE#32
  | 73 => 0xBF93114C#32
  | 74 => 0x3F85D92E#32
  | 75 => 0xBE75CA7A#32
  | 76 => 0xBF8027A0#32
  | 77 => 0x3E8F4E20#32
  | 78 => 0x3F88A62D#32
  | 79 => 0xBF89EFE8#32
  | 80 => 0x3D073C06#32
  | 81 => 0xBE64608A#32
  | 82 => 0x3E22770C#32
  | 83 => 0x404C6DC7#32
  | 84 => 0xBF092CC8#32
  | 85 => 0xBF41CDF8#32
  | 86 => 0x40DF1EBC#32
  | 87 => 0x3F38BE20#32
  | 88 => 0xBEADAFBD#32
  | 89 => 0x4060F1DF#32
  | 90 => 0x408157A0#32
  | 91 => 0xBF12929E#32
  | 92 => 0x3F84EF0D#32
  | 93 => 0x3F1CE04A#32
  | 94 => 0xBF9DE80A#32
  | 95 => 0xBE0E0BB8#32
  | 96 => 0x400E859C#32
  | 97 => 0xBF2C1AD6#32
  | 98 => 0xBF6BB7DA#32
  | 99 => 0xBF28D56E#32
  | 100 => 0xBF08CCE9#32
  | 101 => 0x3FC76C2F#32
  | 102 => 0x3ECCE243#32
  | 103 => 0xBE88C841#32
  | 104 => 0x405B0E9F#32
  | 105 => 0x3F5A410E#32
  | 106 => 0x3E9B0038#32
  | 107 => 0xBE3E08F4#32
  | 108 => 0x3FC6D0D9#32
  | 109 => 0x3FA8FF0F#32
  | 110 => 0xBF5CF178#32
  | 111 => 0x400AD530#32
  | 112 => 0x400419FF#32
  | 113 => 0xBF9A5756#32
  | 114 => 0xBF18134B#32
  | 115 => 0x3F6DF81E#32
  | 116 => 0x403387E6#32
  | 117 => 0x3E1A823F#32
  | 118 => 0x3F1110F4#32
  | 119 => 0x4045D3EC#32
  | 120 => 0x3F19D70E#32
  | 121 => 0x3F8CA8AD#32
  | 122 => 0x3FE8DC31#32
  | 123 => 0xBDA42C46#32
  | 124 => 0x3DBFC806#32
  | 125 => 0x3FBA7F3A#32
  | 126 => 0x3F8458AF#32
  | 127 => 0xBFC30956#32
  | _ => 0#32

noncomputable abbrev lit0t0_514 (i : Nat) : BitVec 32 := match i % 128 with
  | 0 => 0x401B6569#32
  | 1 => 0x4025B0D9#32
  | 2 => 0x3FB73656#32
  | 3 => 0xBE393531#32
  | 4 => 0x3E405CDE#32
  | 5 => 0x3F8B6D3B#32
  | 6 => 0xBE108C26#32
  | 7 => 0xBF80FB0A#32
  | 8 => 0xBDF344A3#32
  | 9 => 0x3C730C3A#32
  | 10 => 0xBE86D71A#32
  | 11 => 0xBF43F3AB#32
  | 12 => 0x3F880CEB#32
  | 13 => 0x3FBD842D#32
  | 14 => 0x3DEA50FD#32
  | 15 => 0x3FC73F53#32
  | 16 => 0x3FBE4FF8#32
  | 17 => 0xBEC13238#32
  | 18 => 0xBF6DBB20#32
  | 19 => 0xBE973945#32
  | 20 => 0xBE742870#32
  | 21 => 0x3EED178C#32
  | 22 => 0xBF2BA72F#32
  | 23 => 0x3E97AFB6#32
  | 24 => 0x3F4FD33B#32
  | 25 => 0x3EA74D9D#32
  | 26 => 0x3F58562D#32
  | 27 => 0x3F60B6AA#32
  | 28 => 0x402250BA#32
  | 29 => 0xBF42EB91#32
  | 30 => 0x3E71F295#32
  | 31 => 0xBEC53ADD#32
  | 32 => 0x3F74D19A#32
  | 33 => 0x3EDE5C4F#32
  | 34 => 0x3FC518FF#32
  | 35 => 0xBF08A3EF#32
  | 36 => 0x3EE16DA5#32
  | 37 => 0xBE340024#32
  | 38 => 0x3EE70C16#32
  | 39 => 0xBEC4D297#32
  | 40 => 0xBDBE4F21#32
  | 41 => 0xBF070AF2#32
  | 42 => 0x3ED24679#32
  | 43 => 0xBED505FB#32
  | 44 => 0x3E14EB4F#32
  | 45 => 0xBF36860D#32
  | 46 => 0xBE0C4E5E#32
  | 47 => 0xBDB7DEBE#32
  | 48 => 0x3E848F70#32
  | 49 => 0xBF00B411#32
  | 50 => 0x3FA6CF34#32
  | 51 => 0xBF544B8D#32
  | 52 => 0x3FB86F00#32
  | 53 => 0x3E0193A1#32
  | 54 => 0x3F46EBC4#32
  | 55 => 0x3E944F88#32
  | 56 => 0xBE810045#32
  | 57 => 0xBE941567#32
  | 58 => 0x3ED3AF68#32
  | 59 => 0xBF47248D#32
  | 60 => 0x3F871615#32
  | 61 => 0xBF8D7E20#32
  | 62 => 0xBE261D44#32
  | 63 => 0xBF858DD8#32
  | 64 => 0x3FA14E21#32
  | 65 => 0x3FB7FF2D#32
  | 66 => 0x3E807AC8#32
  | 67 => 0xBDFF218D#32
  | 68 => 0xBFC15C35#32
  | 69 => 0x40654982#32
  | 70 => 0xBECF3601#32
  | 71 => 0xBF92DC40#32
  | 72 => 0x3FC78010#32
  | 73 => 0xBEA3F5DB#32
  | 74 => 0x402B7F28#32
  | 75 => 0xBF42117C#32
  | 76 => 0x3F47BDD4#32
  | 77 => 0xBF95BD08#32
  | 78 => 0x3F118B14#32
  | 79 => 0x3F470D3F#32
  | 80 => 0xBF4390B0#32
  | 81 => 0x4004B4E9#32
  | 82 => 0x400264DE#32
  | 83 => 0x4023BFFA#32
  | 84 => 0xBE6D67FF#32
  | 85 => 0x4007C346#32
  | 86 => 0x3EC567C1#32
  | 87 => 0x3F6A22C8#32
  | 88 => 0x3ED9D807#32
  | 89 => 0x3F9EF0ED#32
  | 90 => 0x3EEF50E8#32
  | 91 => 0x408C58A1#32
  | 92 => 0xBEAD6269#32
  | 93 => 0x3E40BD70#32
  | 94 => 0x3E470715#32
  | 95 => 0x3F3FCD88#32
  | 96 => 0x3FFDDF7B#32
  | 97 => 0x3FD7D02B#32
  | 98 => 0x3FE0A224#32
  | 99 => 0xBF4FB6D6#32
  | 100 => 0x3FF9BE34#32
  | 101 => 0xBEA0E657#32
  | 102 => 0x3F56AE85#32
  | 103 => 0x3D6A55A2#32
  | 104 => 0x3FE32435#32
  | 105 => 0x4013B936#32
  | 106 => 0x3EEF9DC8#32
  | 107 => 0xBFA69E36#32
  | 108 => 0x40082C81#32
  | 109 => 0xBE1A2E08#32
  | 110 => 0xBF64DE24#32
  | 111 => 0x3F74626D#32
  | 112 => 0x3FEF4782#32
  | 113 => 0x3EB288F0#32
  | 114 => 0xBF11C18E#32
  | 115 => 0x3E828319#32
  | 116 => 0x3FD023EB#32
  | 117 => 0xBF41E04A#32
  | 118 => 0xBF05EF4B#32
  | 119 => 0xBF6D1A7E#32
  | 120 => 0xBF5BBEB6#32
  | 121 => 0x3FB3049D#32
  | 122 => 0x3EC95ACF#32
  | 123 => 0x3FE8B396#32
  | 124 => 0x3E16C1EF#32
  | 125 => 0x3F2CC2F2#32
  | 126 => 0xBF317070#32
  | 127 => 0x3F680DB1#32
  | _ => 0#32

noncomputable abbrev lit0t0_515 (i : Nat) : BitVec 32 := match i % 128 with
  | 0 => 0x3F91301F#32
  | 1 => 0x3FB8408B#32
  | 2 => 0x3CC543EC#32
  | 3 => 0x3F0233D2#32
  | 4 => 0x4003F81F#32
  | 5 => 0x3FF89803#32
  | 6 => 0x3FB8AC49#32
  | 7 => 0x3EF61692#32
  | 8 => 0x3ECEAFB1#32
  | 9 => 0x3F992B4F#32
  | 10 => 0xBF8501F4#32
  | 11 => 0x3DC22BB7#32
  | 12 => 0xBECC4522#32
  | 13 => 0xBF06916F#32
  | 14 => 0x3EE43E36#32
  | 15 => 0x3F889F6A#32
  | 16 => 0xBFDF7C86#32
  | 17 => 0x3FF03A4D#32
  | 18 => 0xBFB10443#32
  | 19 => 0x407169B2#32
  | 20 => 0xBE64242E#32
  | 21 => 0xBE60909C#32
  | 22 => 0x3FCD98F0#32
  | 23 => 0x3FCBEBA2#32
  | 24 => 0x3F72557A#32
  | 25 => 0xBF3E4869#32
  | 26 => 0x3FD46EFB#32
  | 27 => 0xBFABB619#32
  | 28 => 0xBF0CAB9C#32
  | 29 => 0x3F48B0B6#32
  | 30 => 0x3F23A583#32
  | 31 => 0x3CD91F61#32
  | 32 => 0x3F844FFB#32
  | 33 => 0x3CA82358#32
  | 34 => 0xBF08F8A8#32
  | 35 => 0x3E053FD5#32
  | 36 => 0x3FD22D17#32
  | 37 => 0x405C3C3F#32
  | 38 => 0xBD9F4A20#32
  | 39 => 0x3FA3053F#32
  | 40 => 0x40385DA7#32
  | 41 => 0x402979C0#32
  | 42 => 0x3EA4DCDD#32
  | 43 => 0xBF81AB3C#32
  | 44 => 0x3F197448#32
  | 45 => 0x3D7021D7#32
  | 46 => 0x3FAAFCCD#32
  | 47 => 0x3F7806C4#32
  | 48 => 0x3EF27180#32
  | 49 => 0x3F06FDA6#32
  | 50 => 0xBCB68611#32
  | 51 => 0x3E4FEA30#32
  | 52 => 0x3DD31B7B#32
  | 53 => 0x3FBE94F8#32
  | 54 => 0x3ECCD919#32
  | 55 => 0xBF6A570E#32
  | 56 => 0x3F9BCB57#32
  | 57 => 0xBF780C02#32
  | 58 => 0x400C41A0#32
  | 59 => 0x4005F6D0#32
  | 60 => 0xBEAE42CC#32
  | 61 => 0x3F82A662#32
  | 62 => 0x404D8778#32
  | 63 => 0x403FB437#32
  | 64 => 0x3FB2CF78#32
  | 65 => 0xBED916AF#32
  | 66 => 0xBF9A3066#32
  | 67 => 0x3E3C84F4#32
  | 68 => 0xBF957364#32
  | 69 => 0xBBED4B83#32
  | 70 => 0xBF6090A7#32
  | 71 => 0x3F237D30#32
  | 72 => 0x3FB4CFF8#32
  | 73 => 0x3E1A65BD#32
  | 74 => 0x3FCEE275#32
  | 75 => 0xBDD38358#32
  | 76 => 0xBF37B80D#32
  | 77 => 0xBF1967F7#32
  | 78 => 0x409595F5#32
  | 79 => 0x40327908#32
  | 80 => 0x40D71338#32
  | 81 => 0x40359D15#32
  | 82 => 0x40A3B7B4#32
  | 83 => 0x3FA4C8AE#32
  | 84 => 0xBF0C4EEB#32
  | 85 => 0x3DBADDB2#32
  | 86 => 0xBEAADCFF#32
  | 87 => 0x3FBD34D1#32
  | 88 => 0xBEE26D71#32
  | 89 => 0xBF8F0A04#32
  | 90 => 0x3F2C841B#32
  | 91 => 0x3F37B087#32
  | 92 => 0x3EF4E5A8#32
  | 93 => 0x403FED8A#32
  | 94 => 0x3F98A57D#32
  | 95 => 0xBF61DA7C#32
  | 96 => 0xBE6C74A9#32
  | 97 => 0x3F4F620F#32
  | 98 => 0xBF944914#32
  | 99 => 0x3F52DD1A#32
  | 100 => 0x3FD29AD9#32
  | 101 => 0x3FA4F33A#32
  | 102 => 0x3FA41443#32
  | 103 => 0x3FAC3CDB#32
  | 104 => 0x402C529C#32
  | 105 => 0x3F7F1A69#32
  | 106 => 0x3F590E29#32
  | 107 => 0x3DAE059D#32
  | 108 => 0x3EAF7393#32
  | 109 => 0x3FD3C91F#32
  | 110 => 0xBE49C9DB#32
  | 111 => 0x4039A2E2#32
  | 112 => 0x401303E8#32
  | 113 => 0x3FA276CE#32
  | 114 => 0x3F521F2E#32
  | 115 => 0xBEEB3640#32
  | 116 => 0x3F4BAD10#32
  | 117 => 0xBEE739EE#32
  | 118 => 0x3FBBDFE9#32
  | 119 => 0x401FB1A4#32
  | 120 => 0x3F61C4E6#32
  | 121 => 0x40A35086#32
  | 122 => 0x3F90B8B0#32
  | 123 => 0x408048B7#32
  | 124 => 0xBF105AC5#32
  | 125 => 0x3F0B9BD5#32
  | 126 => 0x3FED08DA#32
  | 127 => 0x3FF825DE#32
  | _ => 0#32

noncomputable abbrev lit0t0_516 (i : Nat) : BitVec 32 := match i % 128 with
  | 0 => 0xBEB44B57#32
  | 1 => 0x3FE04157#32
  | 2 => 0x3F3FC84F#32
  | 3 => 0xBE425AF4#32
  | 4 => 0x3F5A816F#32
  | 5 => 0xBF1BA713#32
  | 6 => 0xBDE7D693#32
  | 7 => 0x3F5E6E7E#32
  | 8 => 0xBE4DA4E2#32
  | 9 => 0x3F13BDDA#32
  | 10 => 0xBEBA52FD#32
  | 11 => 0x3D876B90#32
  | 12 => 0x3F16E0B7#32
  | 13 => 0xBF03C91F#32
  | 14 => 0x3EA79C7E#32
  | 15 => 0xBF76DD50#32
  | 16 => 0x3ED60477#32
  | 17 => 0xBF30812B#32
  | 18 => 0xBF5E25BF#32
  | 19 => 0x3F21FEA8#32
  | 20 => 0xBF1FD5EA#32
  | 21 => 0xBF8092E2#32
  | 22 => 0x3F1456E2#32
  | 23 => 0x3ED9CFC1#32
  | 24 => 0xBF522B14#32
  | 25 => 0xBDF4A32B#32
  | 26 => 0xBE2D8BF0#32
  | 27 => 0xBF809CAC#32
  | 28 => 0x3E7AE745#32
  | 29 => 0xBF95A5EB#32
  | 30 => 0xBEE78023#32
  | 31 => 0x40040E05#32
  | 32 => 0x3E13BF45#32
  | 33 => 0xBF1AA6DE#32
  | 34 => 0xBFA0F771#32
  | 35 => 0x409EA5D1#32
  | 36 => 0x3F971C1B#32
  | 37 => 0xBF759A70#32
  | 38 => 0x3FB6F1EE#32
  | 39 => 0x3E9B2E39#32
  | 40 => 0x3F2867B6#32
  | 41 => 0x3D31F936#32
  | 42 => 0xBF03AB9C#32
  | 43 => 0x404B7AC8#32
  | 44 => 0x3F3809F7#32
  | 45 => 0x4034B3DE#32
  | 46 => 0xBF99AC36#32
  | 47 => 0x3FA779E0#32
  | 48 => 0xBE8898EB#32
  | 49 => 0x3E85EFED#32
  | 50 => 0x3ECD49FD#32
  | 51 => 0x402BF2C1#32
  | 52 => 0x3F1152F9#32
  | 53 => 0x3F61F37A#32
  | 54 => 0xBF644B1D#32
  | 55 => 0x3DACE9BF#32
  | 56 => 0x3F55F532#32
  | 57 => 0x3C684D1B#32
  | 58 => 0x3F6941CF#32
  | 59 => 0xBDE702D7#32
  | 60 => 0xBFC8BFD2#32
  | 61 => 0x3F936989#32
  | 62 => 0x3DDFB9B3#32
  | 63 => 0xBE15EB0C#32
  | 64 => 0x3F3370BA#32
  | 65 => 0xBF3D9DE8#32
  | 66 => 0xBF88D319#32
  | 67 => 0x3F8BF01A#32
  | 68 => 0x4015414E#32
  | 69 => 0x4014F197#32
  | 70 => 0xBF9B7AE3#32
  | 71 => 0x3FDD3A63#32
  | 72 => 0x3F4D6C59#32
  | 73 => 0xBF33A7B7#32
  | 74 => 0xBE90ADD7#32
  | 75 => 0xBF80AECC#32
  | 76 => 0x4012922F#32
  | 77 => 0x40939CD4#32
  | 78 => 0x3FFC2765#32
  | 79 => 0x3E800CC8#32
  | 80 => 0x4085D08B#32
  | 81 => 0x3D8524CC#32
  | 82 => 0x3E1AD1AE#32
  | 83 => 0x3F82F84A#32
  | 84 => 0x3E0AFDB7#32
  | 85 => 0xBFAF3B12#32
  | 86 => 0x3FEBD7A4#32
  | 87 => 0x3FA6D524#32
  | 88 => 0x3FC5056D#32
  | 89 => 0x3F62B214#32
  | 90 => 0xBEF1F692#32
  | 91 => 0x3F4F465C#32
  | 92 => 0x3FD7D65C#32
  | 93 => 0x3F11E756#32
  | 94 => 0x402A772C#32
  | 95 => 0x3F288DFF#32
  | 96 => 0x3E88CA04#32
  | 97 => 0xBFF12BF4#32
  | 98 => 0xBF892CDE#32
  | 99 => 0x3F06429A#32
  | 100 => 0x406D3422#32
  | 101 => 0xBF02A1D9#32
  | 102 => 0x3F49BA0C#32
  | 103 => 0xBF78C87C#32
  | 104 => 0xBD05A7E2#32
  | 105 => 0x3F9328F1#32
  | 106 => 0x3F42F760#32
  | 107 => 0x3EAE152B#32
  | 108 => 0xBE4895C0#32
  | 109 => 0xBEB075EE#32
  | 110 => 0x3FD217B2#32
  | 111 => 0xBF02163E#32
  | 112 => 0x4080247A#32
  | 113 => 0x40674B3B#32
  | 114 => 0x3E39B663#32
  | 115 => 0x40438AAE#32
  | 116 => 0x40113399#32
  | 117 => 0x3FD37BAC#32
  | 118 => 0x3F1CDE8D#32
  | 119 => 0x3FAD0EF1#32
  | 120 => 0xBEFF1F54#32
  | 121 => 0xBF6CD7B1#32
  | 122 => 0x408BBB3E#32
  | 123 => 0x400CD314#32
  | 124 => 0x3F3F743C#32
  | 125 => 0x40200535#32
  | 126 => 0xBF9760FF#32
  | 127 => 0xBF3DA195#32
  | _ => 0#32

noncomputable abbrev lit0t0_517 (i : Nat) : BitVec 32 := match i % 128 with
  | 0 => 0xBF122DEF#32
  | 1 => 0x3F581600#32
  | 2 => 0x4062D1A6#32
  | 3 => 0xBF005BF9#32
  | 4 => 0x403C1C86#32
  | 5 => 0xBE884B1A#32
  | 6 => 0xBC622DFD#32
  | 7 => 0x3E5E5A27#32
  | 8 => 0x3FC729F7#32
  | 9 => 0x401DDE5D#32
  | 10 => 0x3FA727F2#32
  | 11 => 0x3FD86FA1#32
  | 12 => 0xBEA656CE#32
  | 13 => 0x3F6EE6BB#32
  | 14 => 0xBF6D657E#32
  | 15 => 0x3FBD0BDF#32
  | 16 => 0x3F7C4057#32
  | 17 => 0xBF707B2C#32
  | 18 => 0x402BFCDC#32
  | 19 => 0x3FC63E5D#32
  | 20 => 0xBF0EC7F2#32
  | 21 => 0x3F7002B1#32
  | 22 => 0x3FC41F5E#32
  | 23 => 0x3EA33E37#32
  | 24 => 0xBF6940B0#32
  | 25 => 0x3F3905E9#32
  | 26 => 0x3F651CE2#32
  | 27 => 0x3F457D04#32
  | 28 => 0x3CB39FB9#32
  | 29 => 0x3FB5D360#32
  | 30 => 0x40058D79#32
  | 31 => 0x3F7F2C0B#32
  | 32 => 0x3EACB3D8#32
  | 33 => 0xBD9502D4#32
  | 34 => 0xBF327D19#32
  | 35 => 0x3F331E90#32
  | 36 => 0xBF5B7E7B#32
  | 37 => 0xBE7123C9#32
  | 38 => 0x408DC338#32
  | 39 => 0x3F6B622D#32
  | 40 => 0x3ED5CA28#32
  | 41 => 0xBFEBC07A#32
  | 42 => 0x3E573D09#32
  | 43 => 0x3E61DF57#32
  | 44 => 0x3E1AC385#32
  | 45 => 0x3DF3D68F#32
  | 46 => 0x3ECDBDA7#32
  | 47 => 0xBDA28D3D#32
  | 48 => 0xBEF4564A#32
  | 49 => 0x3FC336E9#32
  | 50 => 0xBF3A7E7C#32
  | 51 => 0xBEBFCB3C#32
  | 52 => 0xBED3BFFB#32
  | 53 => 0x3FA3C2B5#32
  | 54 => 0xBE841366#32
  | 55 => 0x3FB94866#32
  | 56 => 0xBFB822CC#32
  | 57 => 0xBF8538BF#32
  | 58 => 0x3F72ADEA#32
  | 59 => 0x3FCC4C1F#32
  | 60 => 0x3DE923BF#32
  | 61 => 0xBF8688E4#32
  | 62 => 0x3F2F052B#32
  | 63 => 0xBED2B960#32
  | 64 => 0x3F664243#32
  | 65 => 0x3F4C6944#32
  | 66 => 0xBF0C6682#32
  | 67 => 0x4026711D#32
  | 68 => 0x3FFE6FEE#32
  | 69 => 0x3F80B6E7#32
  | 70 => 0x40010D14#32
  | 71 => 0xBF323A95#32
  | 72 => 0x3E38FF11#32
  | 73 => 0xBE801C7C#32
  | 74 => 0x4031ABC6#32
  | 75 => 0x405F6C8F#32
  | 76 => 0x404C48E5#32
  | 77 => 0xBF936A68#32
  | 78 => 0xBCD8CAA0#32
  | 79 => 0x3D022C16#32
  | 80 => 0xBF28B9E4#32
  | 81 => 0x3FA81374#32
  | 82 => 0xBEC635AB#32
  | 83 => 0x3FAB4C73#32
  | 84 => 0xBE4D315C#32
  | 85 => 0xBF025A00#32
  | 86 => 0x3F1CA0F7#32
  | 87 => 0x3F5F339A#32
  | 88 => 0xBF3B2DBB#32
  | 89 => 0x3F9626EC#32
  | 90 => 0xBEDC40AF#32
  | 91 => 0x3EB77FE0#32
  | 92 => 0xBEBD9D5B#32
  | 93 => 0x3F1D734E#32
  | 94 => 0x3F772C04#32
  | 95 => 0xBF27B635#32
  | 96 => 0x400B69D5#32
  | 97 => 0xBFB196FC#32
  | 98 => 0xBE815E46#32
  | 99 => 0x3F4EAF18#32
  | 100 => 0x3EE4E44C#32
  | 101 => 0x3EC81814#32
  | 102 => 0xBE93A932#32
  | 103 => 0xBF208E7C#32
  | 104 => 0x3ED2B196#32
  | 105 => 0x3FB4F002#32
  | 106 => 0x4003B241#32
  | 107 => 0x401D1F22#32
  | 108 => 0x3F613F2B#32
  | 109 => 0x3B907A6B#32
  | 110 => 0x3F797BD8#32
  | 111 => 0x3F0C9658#32
  | 112 => 0x3F4CAEF6#32
  | 113 => 0x3F9D9DAA#32
  | 114 => 0x3FBABA94#32
  | 115 => 0x3F85B53E#32
  | 116 => 0x401CAB4E#32
  | 117 => 0xBF98E682#32
  | 118 => 0xBF3EC245#32
  | 119 => 0x3FB5AF13#32
  | 120 => 0xBE5D8CAC#32
  | 121 => 0xBE019667#32
  | 122 => 0x40449DE6#32
  | 123 => 0x3F0D75AD#32
  | 124 => 0x3FCB9D0F#32
  | 125 => 0xBF50112A#32
  | 126 => 0x3FC9F252#32
  | 127 => 0x3FFA6EAE#32
  | _ => 0#32

noncomputable abbrev lit0t0_518 (i : Nat) : BitVec 32 := match i % 128 with
  | 0 => 0x3F3233BB#32
  | 1 => 0x402DEFD5#32
  | 2 => 0x40653F79#32
  | 3 => 0xBD720DB6#32
  | 4 => 0x3F871BE2#32
  | 5 => 0x4048C3E2#32
  | 6 => 0xBFBCCCC2#32
  | 7 => 0xBCC5EA80#32
  | 8 => 0x3FBF2A37#32
  | 9 => 0x3F9F97AC#32
  | 10 => 0xBF24C859#32
  | 11 => 0x3F841C3E#32
  | 12 => 0x4039CF99#32
  | 13 => 0x3FC874EC#32
  | 14 => 0xBFB5DBC3#32
  | 15 => 0xBECDD818#32
  | 16 => 0xBF2E0D7B#32
  | 17 => 0xBF9D1BE7#32
  | 18 => 0x3F0B0BBC#32
  | 19 => 0xBE589523#32
  | 20 => 0xBF5A8D18#32
  | 21 => 0xBED75DD5#32
  | 22 => 0x40793CA9#32
  | 23 => 0xBE82D3ED#32
  | 24 => 0x3FBB7FC1#32
  | 25 => 0xBE703D40#32
  | 26 => 0x3E62D4D2#32
  | 27 => 0xBFADC836#32
  | 28 => 0x3F9C9973#32
  | 29 => 0x3EFAC053#32
  | 30 => 0x3F96BC0C#32
  | 31 => 0x3EBE4CCB#32
  | 32 => 0x3F5B092F#32
  | 33 => 0x3EC75867#32
  | 34 => 0xBE83947B#32
  | 35 => 0x3F19A639#32
  | 36 => 0x409418B4#32
  | 37 => 0x4019FFD2#32
  | 38 => 0x3FDCF468#32
  | 39 => 0xBF7173C6#32
  | 40 => 0x3DF50736#32
  | 41 => 0x3FCB5F82#32
  | 42 => 0x4018D2A0#32
  | 43 => 0x3FC5F030#32
  | 44 => 0xBF02AB06#32
  | 45 => 0x3F89C574#32
  | 46 => 0x3F1C9F2F#32
  | 47 => 0xBA97A588#32
  | 48 => 0xBF54BDCB#32
  | 49 => 0x3E033C59#32
  | 50 => 0xBD13BD61#32
  | 51 => 0xBEDF6522#32
  | 52 => 0x40038F20#32
  | 53 => 0x3FD60196#32
  | 54 => 0x40173A1C#32
  | 55 => 0xBE90FB58#32
  | 56 => 0x3FD23F9B#32
  | 57 => 0x3F4462B8#32
  | 58 => 0x400D3981#32
  | 59 => 0xBF3C583B#32
  | 60 => 0x3F545E72#32
  | 61 => 0xBF531F6B#32
  | 62 => 0x400C5940#32
  | 63 => 0xBE916264#32
  | 64 => 0x3F919722#32
  | 65 => 0x40183F86#32
  | 66 => 0x3E9BE96D#32
  | 67 => 0xBE51724C#32
  | 68 => 0xBFA55C99#32
  | 69 => 0x3F4111EF#32
  | 70 => 0xBE6A0907#32
  | 71 => 0x3EC52741#32
  | 72 => 0x3F9BC612#32
  | 73 => 0x3E4A2DD8#32
  | 74 => 0x3F28BC67#32
  | 75 => 0x3D8546D9#32
  | 76 => 0xBF01DFCF#32
  | 77 => 0x3FCCCB16#32
  | 78 => 0x3EE31C64#32
  | 79 => 0x3F0996FB#32
  | 80 => 0x3F9B545F#32
  | 81 => 0x3F382C71#32
  | 82 => 0xBEC4D297#32
  | 83 => 0x3E9F2B2D#32
  | 84 => 0x3E18C9DF#32
  | 85 => 0x3ED66592#32
  | 86 => 0x3F7DD61F#32
  | 87 => 0x3F0BD73B#32
  | 88 => 0xBE19AD80#32
  | 89 => 0xBC5EB24A#32
  | 90 => 0x3EBC275E#32
  | 91 => 0xBEA7D060#32
  | 92 => 0x3F196348#32
  | 93 => 0xBF3533EC#32
  | 94 => 0x4028346E#32
  | 95 => 0xBE198EA7#32
  | 96 => 0xBF6CAA74#32
  | 97 => 0x3FAE4F7B#32
  | 98 => 0x400C0246#32
  | 99 => 0xBEF7C370#32
  | 100 => 0x3FB82300#32
  | 101 => 0x3F9F7318#32
  | 102 => 0xBE8788BE#32
  | 103 => 0xBF73BA1A#32
  | 104 => 0x3EE9FE63#32
  | 105 => 0x3E68CD5E#32
  | 106 => 0x3EAA1CF4#32
  | 107 => 0xBF256DC2#32
  | 108 => 0xBEB859B2#32
  | 109 => 0x3F5C02E0#32
  | 110 => 0x3F1F2878#32
  | 111 => 0x403F1F07#32
  | 112 => 0xBEC95601#32
  | 113 => 0xBEB342B6#32
  | 114 => 0x3EBE8FB8#32
  | 115 => 0x3F4A2149#32
  | 116 => 0x3FF65B60#32
  | 117 => 0x3DEAB13F#32
  | 118 => 0x3F9594D2#32
  | 119 => 0xBE734ABB#32
  | 120 => 0xBF02CE89#32
  | 121 => 0x401B28AA#32
  | 122 => 0xBF06E964#32
  | 123 => 0xBE7D609E#32
  | 124 => 0x40198BE8#32
  | 125 => 0xBDE24CA2#32
  | 126 => 0x3E70E8E7#32
  | 127 => 0x3D9AFD3F#32
  | _ => 0#32

noncomputable abbrev lit0t0_519 (i : Nat) : BitVec 32 := match i % 128 with
  | 0 => 0xBF8C7B9F#32
  | 1 => 0xBF2B9720#32
  | 2 => 0xBF870426#32
  | 3 => 0xBEDB387D#32
  | 4 => 0xBFD6B329#32
  | 5 => 0x3F35262C#32
  | 6 => 0x3F3663C5#32
  | 7 => 0xBF6E38FE#32
  | 8 => 0x3E78BCA8#32
  | 9 => 0x3FC6520E#32
  | 10 => 0xBFA47E8E#32
  | 11 => 0x3FEC0370#32
  | 12 => 0x3F09A5C7#32
  | 13 => 0x3E8F4B4D#32
  | 14 => 0xBE3C7234#32
  | 15 => 0x3F2BC4CA#32
  | 16 => 0x40076261#32
  | 17 => 0x4018B870#32
  | 18 => 0x3F7BE5B3#32
  | 19 => 0xBE481314#32
  | 20 => 0x3FE49257#32
  | 21 => 0x3E8E8449#32
  | 22 => 0xBEF25ECE#32
  | 23 => 0xBD421CD0#32
  | 24 => 0xBF6A12B6#32
  | 25 => 0xBF4039B4#32
  | 26 => 0x3D183EB0#32
  | 27 => 0x3FA30D3E#32
  | 28 => 0x3F3363D9#32
  | 29 => 0xBEFFB5AF#32
  | 30 => 0x3F667520#32
  | 31 => 0x3ECB2555#32
  | 32 => 0x3E880131#32
  | 33 => 0x3EB3AAF0#32
  | 34 => 0xBE681DD4#32
  | 35 => 0xBEBF50C2#32
  | 36 => 0x3ECD85E2#32
  | 37 => 0xBF6B70A8#32
  | 38 => 0xBF8614D6#32
  | 39 => 0xBE43091B#32
  | 40 => 0x400EF450#32
  | 41 => 0x3E46482A#32
  | 42 => 0xBE841560#32
  | 43 => 0xBE7026DB#32
  | 44 => 0x3FDFCC6B#32
  | 45 => 0x3F69DF2E#32
  | 46 => 0xBEFB5A69#32
  | 47 => 0x3F84AEB5#32
  | 48 => 0xBF83EFE8#32
  | 49 => 0x4021FE32#32
  | 50 => 0x3FCF138A#32
  | 51 => 0xBFA6FEBC#32
  | 52 => 0x3F84AB1C#32
  | 53 => 0x3F99B1E3#32
  | 54 => 0x3DC2DACD#32
  | 55 => 0x400A0916#32
  | 56 => 0xBDBA7C60#32
  | 57 => 0xBF1EFF50#32
  | 58 => 0xBF983A9B#32
  | 59 => 0xBF54225D#32
  | 60 => 0x40245BB0#32
  | 61 => 0x406ECD32#32
  | 62 => 0xBFA16CC1#32
  | 63 => 0xBFD63B47#32
  | 64 => 0x3D8861F1#32
  | 65 => 0xBF78694E#32
  | 66 => 0x3F4293AE#32
  | 67 => 0xBE40FFF3#32
  | 68 => 0x3F876C25#32
  | 69 => 0xBF8A46E9#32
  | 70 => 0xBF6CDDE7#32
  | 71 => 0x409174BC#32
  | 72 => 0xBE724BFD#32
  | 73 => 0xBD491376#32
  | 74 => 0xBFA9ACC8#32
  | 75 => 0xBE2BED42#32
  | 76 => 0x3FC67018#32
  | 77 => 0x3EDC37D9#32
  | 78 => 0xBE92E9C5#32
  | 79 => 0x3FE6B923#32
  | 80 => 0x3F85BA8C#32
  | 81 => 0x3E167C56#32
  | 82 => 0x3EA3229D#32
  | 83 => 0x3F0B615F#32
  | 84 => 0x3F4A3503#32
  | 85 => 0x3E530E12#32
  | 86 => 0xBE2A4692#32
  | 87 => 0xBD92B6F7#32
  | 88 => 0x3FD6547C#32
  | 89 => 0xBF8DB73B#32
  | 90 => 0x3F7D869A#32
  | 91 => 0xBF8F87B4#32
  | 92 => 0xBEB04B4B#32
  | 93 => 0xBF8A29FA#32
  | 94 => 0xBF410087#32
  | 95 => 0x3FDF0BD3#32
  | 96 => 0xBFBAA768#32
  | 97 => 0xBFA892BD#32
  | 98 => 0xBF818E6E#32
  | 99 => 0x3F586A22#32
  | 100 => 0x3F2F93E2#32
  | 101 => 0x3FB2A949#32
  | 102 => 0x401BA7D2#32
  | 103 => 0x3EE52F1C#32
  | 104 => 0x40282070#32
  | 105 => 0x3F776AF8#32
  | 106 => 0xBF1FA29C#32
  | 107 => 0x3E2623DB#32
  | 108 => 0x4005947A#32
  | 109 => 0x40ADF4FA#32
  | 110 => 0x3F65EDA2#32
  | 111 => 0xBFAE6F58#32
  | 112 => 0x400DE232#32
  | 113 => 0xBED7863D#32
  | 114 => 0xBEC30413#32
  | 115 => 0xBF201FF6#32
  | 116 => 0x3DE0DE68#32
  | 117 => 0x3F248A77#32
  | 118 => 0x4021EF95#32
  | 119 => 0x3E9BFE27#32
  | 120 => 0xBFA6FF1D#32
  | 121 => 0x3E983F84#32
  | 122 => 0x3F71BFE2#32
  | 123 => 0x3F3F9FD4#32
  | 124 => 0x3F46AB7E#32
  | 125 => 0xBE8F4180#32
  | 126 => 0x3FD317BF#32
  | 127 => 0x40524BB8#32
  | _ => 0#32

noncomputable abbrev lit0t0_520 (i : Nat) : BitVec 32 := match i % 128 with
  | 0 => 0x3F0F5E64#32
  | 1 => 0xBEA4EED4#32
  | 2 => 0xBF6FA1EA#32
  | 3 => 0x3EB39295#32
  | 4 => 0xBECC536C#32
  | 5 => 0x3FB909EC#32
  | 6 => 0x4013424D#32
  | 7 => 0x3F32F7EE#32
  | 8 => 0x406F1237#32
  | 9 => 0xBE9B3EEE#32
  | 10 => 0x3F421CF7#32
  | 11 => 0x3FCAA2C0#32
  | 12 => 0x40386938#32
  | 13 => 0xBF145A22#32
  | 14 => 0x3FB74D5D#32
  | 15 => 0x3F558586#32
  | 16 => 0x3F06E65E#32
  | 17 => 0xBEBF62EB#32
  | 18 => 0xBEF8B2B2#32
  | 19 => 0x3FC4B32C#32
  | 20 => 0x3E6026F8#32
  | 21 => 0x3F93C287#32
  | 22 => 0x3EEB62C2#32
  | 23 => 0xBF482CC9#32
  | 24 => 0x3F0AD340#32
  | 25 => 0x403C4688#32
  | 26 => 0xBF38AC81#32
  | 27 => 0xBDFDF25E#32
  | 28 => 0x3E68E2C4#32
  | 29 => 0xBF59DC30#32
  | 30 => 0xBF867F3B#32
  | 31 => 0x3FF0DCA8#32
  | 32 => 0x40084E99#32
  | 33 => 0x3F27D558#32
  | 34 => 0x3D359D6F#32
  | 35 => 0xBE6A1183#32
  | 36 => 0xBEC6F68B#32
  | 37 => 0x401CF9F7#32
  | 38 => 0x4002ED7A#32
  | 39 => 0xBF4DE6AC#32
  | 40 => 0x4015E2C8#32
  | 41 => 0x4041E63E#32
  | 42 => 0xBFD23528#32
  | 43 => 0x3E11AF5D#32
  | 44 => 0x3F4F5E5D#32
  | 45 => 0x3E625F99#32
  | 46 => 0x3FCF0DD2#32
  | 47 => 0xBF4BFF7E#32
  | 48 => 0x3E56D687#32
  | 49 => 0x3FBAC800#32
  | 50 => 0x3F482E4B#32
  | 51 => 0xBF074377#32
  | 52 => 0x40343143#32
  | 53 => 0xBF2D088C#32
  | 54 => 0xBEDC2B45#32
  | 55 => 0x3E4DA390#32
  | 56 => 0x3F0320E4#32
  | 57 => 0x3E0F55C7#32
  | 58 => 0xBED164D3#32
  | 59 => 0x3F1F0131#32
  | 60 => 0xBC712869#32
  | 61 => 0x3FABB6DF#32
  | 62 => 0x3FFB02EA#32
  | 63 => 0x3F298422#32
  | 64 => 0x3E97DB8F#32
  | 65 => 0x3FB7E9BF#32
  | 66 => 0x3FF0742F#32
  | 67 => 0x40527231#32
  | 68 => 0xBE3F1ECD#32
  | 69 => 0x3F11321A#32
  | 70 => 0x3FC8CA72#32
  | 71 => 0x3F329B26#32
  | 72 => 0x40947C61#32
  | 73 => 0xBE1A0258#32
  | 74 => 0x3E011263#32
  | 75 => 0x3EE6A058#32
  | 76 => 0xBF635393#32
  | 77 => 0x3FB0140C#32
  | 78 => 0xBF4F3DF1#32
  | 79 => 0x40042458#32
  | 80 => 0xBF9BBCAB#32
  | 81 => 0xBF2B0690#32
  | 82 => 0x3EDB6E68#32
  | 83 => 0x3E9A9477#32
  | 84 => 0xBF170B88#32
  | 85 => 0x3F7B9F88#32
  | 86 => 0x4014551A#32
  | 87 => 0x3F977884#32
  | 88 => 0xBF97F824#32
  | 89 => 0x3EA5C4C7#32
  | 90 => 0x3D8740D5#32
  | 91 => 0x40059220#32
  | 92 => 0x3F834C78#32
  | 93 => 0x3F322B1D#32
  | 94 => 0x3E13C34C#32
  | 95 => 0x3EE68C99#32
  | 96 => 0x3F9A35EF#32
  | 97 => 0xBF2534B4#32
  | 98 => 0x3E94437A#32
  | 99 => 0xBEA49B71#32
  | 100 => 0x3E8ED4C7#32
  | 101 => 0x3F809092#32
  | 102 => 0x3FA835E2#32
  | 103 => 0x402D0E1B#32
  | 104 => 0x3F090406#32
  | 105 => 0xBFC76AB2#32
  | 106 => 0x3D850215#32
  | 107 => 0x3F72ED52#32
  | 108 => 0x3FB168E5#32
  | 109 => 0x3FEAEB6E#32
  | 110 => 0x401DA927#32
  | 111 => 0xBF452A56#32
  | 112 => 0x3F178DAE#32
  | 113 => 0x3F91C10B#32
  | 114 => 0xBF4E3338#32
  | 115 => 0x3F82B2EE#32
  | 116 => 0xBF980AC5#32
  | 117 => 0x4028578F#32
  | 118 => 0x400C14FB#32
  | 119 => 0x404AD497#32
  | 120 => 0xBE6168E6#32
  | 121 => 0xBF897C8A#32
  | 122 => 0xBC5194DF#32
  | 123 => 0x3FDDF748#32
  | 124 => 0x3F82400E#32
  | 125 => 0x3F01C71F#32
  | 126 => 0xBF16FD1E#32
  | 127 => 0x3FEA5D8B#32
  | _ => 0#32

noncomputable abbrev lit0t0_521 (i : Nat) : BitVec 32 := match i % 128 with
  | 0 => 0x3FA057D2#32
  | 1 => 0x3FB3D5CD#32
  | 2 => 0xBF36E21A#32
  | 3 => 0x3F43639E#32
  | 4 => 0xBE1F530C#32
  | 5 => 0xBE163BE9#32
  | 6 => 0xBECB9EB0#32
  | 7 => 0x3F82F236#32
  | 8 => 0xBE800EE8#32
  | 9 => 0x3F51B220#32
  | 10 => 0x3F77384C#32
  | 11 => 0x3FAA44AC#32
  | 12 => 0xBEEA10CC#32
  | 13 => 0xBF3D0304#32
  | 14 => 0x3EECE876#32
  | 15 => 0x3F509EA0#32
  | 16 => 0x3FD57816#32
  | 17 => 0x3DF8A6AD#32
  | 18 => 0xBEB751AE#32
  | 19 => 0x3F2C35D0#32
  | 20 => 0x3ED21E82#32
  | 21 => 0x3E0AA85D#32
  | 22 => 0xBDDA602F#32
  | 23 => 0x3F31B5F8#32
  | 24 => 0x3EE5FE0A#32
  | 25 => 0x3FB49DD7#32
  | 26 => 0xBE21E494#32
  | 27 => 0xBF902528#32
  | 28 => 0x3DF124ED#32
  | 29 => 0xBF5721E0#32
  | 30 => 0xBED1382C#32
  | 31 => 0x40965016#32
  | 32 => 0xBD0B490F#32
  | 33 => 0x404C93F0#32
  | 34 => 0x40170B1A#32
  | 35 => 0x3EBE6890#32
  | 36 => 0x3F59B036#32
  | 37 => 0xBFB28FBE#32
  | 38 => 0xBEA6A5CB#32
  | 39 => 0x3F466E06#32
  | 40 => 0x40E4ACE7#32
  | 41 => 0x3DDDBC55#32
  | 42 => 0xBF377068#32
  | 43 => 0xBEC89E93#32
  | 44 => 0x3EA51FD6#32
  | 45 => 0x3F8C3498#32
  | 46 => 0x3FD63F39#32
  | 47 => 0xBF675230#32
  | 48 => 0x3F3EBA7C#32
  | 49 => 0x3FEF8A07#32
  | 50 => 0xBD03DA75#32
  | 51 => 0xBF41EC0A#32
  | 52 => 0x4032BF59#32
  | 53 => 0x3FA27383#32
  | 54 => 0x3FAAE3C2#32
  | 55 => 0x3FB157A1#32
  | 56 => 0x3FDD92D6#32
  | 57 => 0x3D81868C#32
  | 58 => 0x3D37AC48#32
  | 59 => 0x3F58F8F8#32
  | 60 => 0x3E18F706#32
  | 61 => 0x4004BBB5#32
  | 62 => 0xBEEF2B96#32
  | 63 => 0xBF396FB5#32
  | 64 => 0xBF9171EE#32
  | 65 => 0x3F2A216D#32
  | 66 => 0xBE07C833#32
  | 67 => 0x3F46E358#32
  | 68 => 0x3E8C13C2#32
  | 69 => 0xBF83C39E#32
  | 70 => 0x3F2E9ADD#32
  | 71 => 0xBF92BEAE#32
  | 72 => 0x3DB5125A#32
  | 73 => 0xBEF76E22#32
  | 74 => 0x3F959E10#32
  | 75 => 0xBED1FCB9#32
  | 76 => 0x3FA6C0CF#32
  | 77 => 0x3FDE6A68#32
  | 78 => 0xBF13E906#32
  | 79 => 0xBE18815E#32
  | 80 => 0x3FC0AB29#32
  | 81 => 0xBEB7CD18#32
  | 82 => 0xBDB7A694#32
  | 83 => 0x400123AB#32
  | 84 => 0x3F2AB97D#32
  | 85 => 0x40075838#32
  | 86 => 0xBF60B0C0#32
  | 87 => 0xBF2D585E#32
  | 88 => 0x3C924CD4#32
  | 89 => 0x3FF05A50#32
  | 90 => 0x3F0775FA#32
  | 91 => 0x3F6EF93F#32
  | 92 => 0xBEB0516B#32
  | 93 => 0x405F8AFC#32
  | 94 => 0x3DE29CC6#32
  | 95 => 0x3EA4CA37#32
  | 96 => 0x3F874E8E#32
  | 97 => 0xBDA97C58#32
  | 98 => 0xBDCB3048#32
  | 99 => 0x3F908AC2#32
  | 100 => 0x3F6C5484#32
  | 101 => 0xBF5D9341#32
  | 102 => 0xBF25256D#32
  | 103 => 0x3F9F316A#32
  | 104 => 0x3FFADC04#32
  | 105 => 0x3FA87D4C#32
  | 106 => 0xBF547CBE#32
  | 107 => 0xBFC4FCA3#32
  | 108 => 0xBE270088#32
  | 109 => 0x3F49E23A#32
  | 110 => 0x3F66F5DC#32
  | 111 => 0xBE57BE64#32
  | 112 => 0x3F990E4F#32
  | 113 => 0x3FA0C074#32
  | 114 => 0x40408850#32
  | 115 => 0xBE7CE902#32
  | 116 => 0x3FBFFCD8#32
  | 117 => 0x3FFC57A2#32
  | 118 => 0x3E5AD4E0#32
  | 119 => 0x3F603A31#32
  | 120 => 0x3FB86A56#32
  | 121 => 0xBD84EC8A#32
  | 122 => 0x3FEFD944#32
  | 123 => 0x3E289999#32
  | 124 => 0xBF5CB30C#32
  | 125 => 0x3F93B065#32
  | 126 => 0x3F333B20#32
  | 127 => 0xBEB7CF19#32
  | _ => 0#32

noncomputable abbrev lit0t0_522 (i : Nat) : BitVec 32 := match i % 128 with
  | 0 => 0xBFAE526E#32
  | 1 => 0x3E1C7BBF#32
  | 2 => 0x3F9049B2#32
  | 3 => 0x3F13A582#32
  | 4 => 0x40366542#32
  | 5 => 0x3F9BCBD0#32
  | 6 => 0x3D9619A9#32
  | 7 => 0xBF510BFD#32
  | 8 => 0x40048A98#32
  | 9 => 0xBF881818#32
  | 10 => 0x3DBDE1CC#32
  | 11 => 0x3E8AAE75#32
  | 12 => 0x3FC1E3E8#32
  | 13 => 0x3F0EA484#32
  | 14 => 0xBEBFAB08#32
  | 15 => 0x3F906F70#32
  | 16 => 0xBE7FC6E0#32
  | 17 => 0x4054061F#32
  | 18 => 0xBDA52AF3#32
  | 19 => 0xBD22D591#32
  | 20 => 0xBF095AA4#32
  | 21 => 0xBECF5D71#32
  | 22 => 0x3E064CE9#32
  | 23 => 0x406A46E4#32
  | 24 => 0x400D181D#32
  | 25 => 0x3E7AFB74#32
  | 26 => 0xBEC487E0#32
  | 27 => 0xBEDF8FFB#32
  | 28 => 0xBE8CE4F1#32
  | 29 => 0xBDDED1CD#32
  | 30 => 0x3D944495#32
  | 31 => 0x3F0B78BB#32
  | 32 => 0x3F24DB13#32
  | 33 => 0x4019103D#32
  | 34 => 0x3EFB7E08#32
  | 35 => 0xBF80C9F0#32
  | 36 => 0x3E39046B#32
  | 37 => 0xBF589FAC#32
  | 38 => 0x3E81354B#32
  | 39 => 0xBEC2D0A4#32
  | 40 => 0x3FA7AF90#32
  | 41 => 0xBE508328#32
  | 42 => 0x3FFB72EC#32
  | 43 => 0x3ECD620F#32
  | 44 => 0x3E735088#32
  | 45 => 0x4038E34C#32
  | 46 => 0xBF6A57E4#32
  | 47 => 0xBE71D6D3#32
  | 48 => 0xBF1F613A#32
  | 49 => 0xBF4306EF#32
  | 50 => 0xBE9016E1#32
  | 51 => 0x3F82E716#32
  | 52 => 0x3FD694F2#32
  | 53 => 0xBE02AC6A#32
  | 54 => 0xBF0D6222#32
  | 55 => 0x3F397FF8#32
  | 56 => 0x3FC9363A#32
  | 57 => 0x401D5AF8#32
  | 58 => 0xBF0739AC#32
  | 59 => 0x3DF6A389#32
  | 60 => 0x402560A7#32
  | 61 => 0xBECC4CF4#32
  | 62 => 0x3EAFDF85#32
  | 63 => 0xBFB8FEDC#32
  | 64 => 0x3F40D96E#32
  | 65 => 0xBF1109AA#32
  | 66 => 0x3F7DE386#32
  | 67 => 0x4017C987#32
  | 68 => 0x3FA0D7BA#32
  | 69 => 0xBF264102#32
  | 70 => 0xBFABDDFD#32
  | 71 => 0x3F9C867E#32
  | 72 => 0xBE40D799#32
  | 73 => 0x3D0B553C#32
  | 74 => 0x3F7CC007#32
  | 75 => 0xBFB6C7F3#32
  | 76 => 0x3F8B3464#32
  | 77 => 0xBF3463F0#32
  | 78 => 0xBF308D82#32
  | 79 => 0x3F1E0BB0#32
  | 80 => 0xBF86849E#32
  | 81 => 0x3F0E72FD#32
  | 82 => 0xBF958E17#32
  | 83 => 0xBF0E83FD#32
  | 84 => 0x403FCDA5#32
  | 85 => 0xBF962CD0#32
  | 86 => 0x3F66C10E#32
  | 87 => 0x3F41BE57#32
  | 88 => 0xBF231E9C#32
  | 89 => 0x3FEA780C#32
  | 90 => 0x3FDAEDE6#32
  | 91 => 0x3F9EE5C1#32
  | 92 => 0x3F3D2571#32
  | 93 => 0x40255EAC#32
  | 94 => 0x3F4C009F#32
  | 95 => 0xBF910B7D#32
  | 96 => 0x3EA4252F#32
  | 97 => 0x3D8FF725#32
  | 98 => 0x3FB6D1CD#32
  | 99 => 0x3F11789C#32
  | 100 => 0x3E93C5EA#32
  | 101 => 0x3FEB6286#32
  | 102 => 0x3F50B3B4#32
  | 103 => 0x3F72EBFC#32
  | 104 => 0xBFA47370#32
  | 105 => 0xBFB65216#32
  | 106 => 0x3FAEB87D#32
  | 107 => 0x401FB825#32
  | 108 => 0x3EA0F3D1#32
  | 109 => 0x3FEFF548#32
  | 110 => 0x3F95677B#32
  | 111 => 0x3FF0F8CC#32
  | 112 => 0x400730D1#32
  | 113 => 0xBFA860EB#32
  | 114 => 0xBE3690FE#32
  | 115 => 0x4031884C#32
  | 116 => 0x3E1ABF64#32
  | 117 => 0x3F6E95B2#32
  | 118 => 0x3FE6C536#32
  | 119 => 0xBFD4D93C#32
  | 120 => 0x3F7962C8#32
  | 121 => 0x3F82BECB#32
  | 122 => 0xBF172FD7#32
  | 123 => 0xBE49AD24#32
  | 124 => 0x3F20F428#32
  | 125 => 0xBE1CBB93#32
  | 126 => 0x3FC91422#32
  | 127 => 0xBF94816A#32
  | _ => 0#32

noncomputable abbrev lit0t0_523 (i : Nat) : BitVec 32 := match i % 128 with
  | 0 => 0xBDD696C4#32
  | 1 => 0x3F909D8C#32
  | 2 => 0x3F49ABEA#32
  | 3 => 0x3D9E55C4#32
  | 4 => 0xBF637ED8#32
  | 5 => 0x3F20814A#32
  | 6 => 0x3F583213#32
  | 7 => 0xBAE18250#32
  | 8 => 0xBF411253#32
  | 9 => 0x3EF8B5F5#32
  | 10 => 0xBDD4A154#32
  | 11 => 0x3EFC29D8#32
  | 12 => 0x3F6B6A44#32
  | 13 => 0x4012CBB2#32
  | 14 => 0xBFB8F385#32
  | 15 => 0xBDE382CB#32
  | 16 => 0x3F2650C5#32
  | 17 => 0x3E969B66#32
  | 18 => 0x408B5BA7#32
  | 19 => 0xBF6B21B6#32
  | 20 => 0xBECC9434#32
  | 21 => 0x3F8D2B1C#32
  | 22 => 0xBF0ABDC4#32
  | 23 => 0x40000029#32
  | 24 => 0xBF95C802#32
  | 25 => 0x3F91E6ED#32
  | 26 => 0x4022A35A#32
  | 27 => 0x3F18352D#32
  | 28 => 0x405F9C89#32
  | 29 => 0xBE18B244#32
  | 30 => 0xBE3EB98E#32
  | 31 => 0x3F6B394A#32
  | 32 => 0x3FEC1EE5#32
  | 33 => 0x4057CF47#32
  | 34 => 0x3F1403D0#32
  | 35 => 0x3F3BF1C9#32
  | 36 => 0x3FE662E8#32
  | 37 => 0x3F866A90#32
  | 38 => 0xBF0B52EC#32
  | 39 => 0xBE0D1354#32
  | 40 => 0xBF887F7E#32
  | 41 => 0x3FC4BF33#32
  | 42 => 0xBF84372C#32
  | 43 => 0x3E1E5123#32
  | 44 => 0xBF10846E#32
  | 45 => 0x3F3CD84F#32
  | 46 => 0xBFB59ED5#32
  | 47 => 0x4009B4CA#32
  | 48 => 0x3EB7C8DE#32
  | 49 => 0xBE7DC8CA#32
  | 50 => 0x40006DBB#32
  | 51 => 0x3F63479D#32
  | 52 => 0xBE9A497D#32
  | 53 => 0x3F7E37AC#32
  | 54 => 0x40629FA2#32
  | 55 => 0x3FF3DE9C#32
  | 56 => 0xBF087D78#32
  | 57 => 0x3E459AEF#32
  | 58 => 0x4012F76E#32
  | 59 => 0xBFA1C18A#32
  | 60 => 0xBF770A11#32
  | 61 => 0x3E3C1B65#32
  | 62 => 0x3FAAB62A#32
  | 63 => 0x3FA08DB3#32
  | 64 => 0x3F46B5CC#32
  | 65 => 0x3F7381C9#32
  | 66 => 0x3F401DEC#32
  | 67 => 0x3FD0F320#32
  | 68 => 0x3FEF02BE#32
  | 69 => 0xBEE9F7A6#32
  | 70 => 0x3F60EFD0#32
  | 71 => 0xBECEE620#32
  | 72 => 0x40818EEC#32
  | 73 => 0xBFAD34D1#32
  | 74 => 0x406749AA#32
  | 75 => 0x3E659365#32
  | 76 => 0xBF2EB009#32
  | 77 => 0xBF270C73#32
  | 78 => 0x3FD65808#32
  | 79 => 0x3DAACBD0#32
  | 80 => 0xBF1BF8AC#32
  | 81 => 0x3F90EBF0#32
  | 82 => 0x3EF84F8C#32
  | 83 => 0xBF85068D#32
  | 84 => 0x3EC3DC23#32
  | 85 => 0xBF43510B#32
  | 86 => 0x3F932300#32
  | 87 => 0x3F84DE43#32
  | 88 => 0xBF350080#32
  | 89 => 0x3FD83BA2#32
  | 90 => 0x40192BE3#32
  | 91 => 0xBF06FE65#32
  | 92 => 0x3F36B2BF#32
  | 93 => 0x3FD69FD3#32
  | 94 => 0x3EA46BCB#32
  | 95 => 0xBE809F76#32
  | 96 => 0x3F561BBC#32
  | 97 => 0xBEC6A9F8#32
  | 98 => 0x3F1F6220#32
  | 99 => 0xBDF656C2#32
  | 100 => 0x3F9AF78D#32
  | 101 => 0x3F8ADE32#32
  | 102 => 0xBCF319A5#32
  | 103 => 0xBEED3A08#32
  | 104 => 0x3FFA6382#32
  | 105 => 0x401940E5#32
  | 106 => 0x3FF8711C#32
  | 107 => 0x40259BF2#32
  | 108 => 0x3F7ABB82#32
  | 109 => 0xBFA7BF1A#32
  | 110 => 0x3ED3A008#32
  | 111 => 0x3F86CAD4#32
  | 112 => 0x3E8B277C#32
  | 113 => 0xBEFED9C8#32
  | 114 => 0xBF421ED1#32
  | 115 => 0xBEC85517#32
  | 116 => 0x3F3F45DA#32
  | 117 => 0x3F1EA56E#32
  | 118 => 0xBF937F21#32
  | 119 => 0xBFA02045#32
  | 120 => 0x3FA30726#32
  | 121 => 0x3EEDE725#32
  | 122 => 0xBEB699CA#32
  | 123 => 0x3E35667A#32
  | 124 => 0x3D991A1E#32
  | 125 => 0xBE85D61D#32
  | 126 => 0xBE5C73B2#32
  | 127 => 0x3FD7D6BE#32
  | _ => 0#32

noncomputable abbrev lit0t0_524 (i : Nat) : BitVec 32 := match i % 128 with
  | 0 => 0xBC626D9B#32
  | 1 => 0xBF393824#32
  | 2 => 0x3ED4990F#32
  | 3 => 0x3F754246#32
  | 4 => 0x3E068B45#32
  | 5 => 0x3F2C6633#32
  | 6 => 0x3EC6A5C4#32
  | 7 => 0xBE1427C0#32
  | 8 => 0xBDA905B1#32
  | 9 => 0x4045BC6B#32
  | 10 => 0x4000FBE8#32
  | 11 => 0xBF0459D3#32
  | 12 => 0x3F6CCF17#32
  | 13 => 0x3F452EA5#32
  | 14 => 0x3F43C1A1#32
  | 15 => 0x3FBA8236#32
  | 16 => 0x3F900EED#32
  | 17 => 0x3CE9B101#32
  | 18 => 0x3F3A086B#32
  | 19 => 0x4012EFBA#32
  | 20 => 0xBEFEF72A#32
  | 21 => 0xBF219A64#32
  | 22 => 0x3FE882D4#32
  | 23 => 0x404519A5#32
  | 24 => 0x3DD54F0C#32
  | 25 => 0xBF65121D#32
  | 26 => 0xBDC51AB0#32
  | 27 => 0xBF2DB565#32
  | 28 => 0x3F356C77#32
  | 29 => 0x3F37FD2D#32
  | 30 => 0xBECC00D3#32
  | 31 => 0xBECC2C02#32
  | 32 => 0xBE9184A9#32
  | 33 => 0x3F4E5A69#32
  | 34 => 0xBE7D0F93#32
  | 35 => 0x3FC12F38#32
  | 36 => 0xBF0F4722#32
  | 37 => 0x3F80771A#32
  | 38 => 0xBED272B7#32
  | 39 => 0x3F17E782#32
  | 40 => 0x3EE0A412#32
  | 41 => 0x3FCD2167#32
  | 42 => 0x3F8750ED#32
  | 43 => 0x3F54C544#32
  | 44 => 0x3ED05A45#32
  | 45 => 0x3D8D0B8D#32
  | 46 => 0xBF5AEC93#32
  | 47 => 0x40C76F69#32
  | 48 => 0x40458818#32
  | 49 => 0xBF7105DE#32
  | 50 => 0x3FBB6AE4#32
  | 51 => 0xBE9AA7A9#32
  | 52 => 0x3D5D7FEC#32
  | 53 => 0x3EBDE571#32
  | 54 => 0x3FB8688F#32
  | 55 => 0xBD0A29B4#32
  | 56 => 0xBF9275FE#32
  | 57 => 0x407F51C1#32
  | 58 => 0x400CF942#32
  | 59 => 0x3F3EA96B#32
  | 60 => 0x3F0FEF18#32
  | 61 => 0xBF3E7AD8#32
  | 62 => 0x3E278147#32
  | 63 => 0xBD79797B#32
  | 64 => 0x4011426E#32
  | 65 => 0xBDF5B8CD#32
  | 66 => 0x3EFC00E6#32
  | 67 => 0x4016A3B4#32
  | 68 => 0xBF21BDD4#32
  | 69 => 0x3F938D21#32
  | 70 => 0x3FA3FECA#32
  | 71 => 0x3F41AEF5#32
  | 72 => 0xBF87CF34#32
  | 73 => 0x3FE86FD6#32
  | 74 => 0xBEC00C8F#32
  | 75 => 0xBF7857A8#32
  | 76 => 0xBEB9CF4E#32
  | 77 => 0xBDC05206#32
  | 78 => 0x3EF36CEC#32
  | 79 => 0x3F6628E9#32
  | 80 => 0xBE841834#32
  | 81 => 0xBEA7AFD0#32
  | 82 => 0x3E43845E#32
  | 83 => 0x3F9F8BC6#32
  | 84 => 0x3FEF7F85#32
  | 85 => 0x3F89E5B9#32
  | 86 => 0x3F75FDA6#32
  | 87 => 0x3FBF40B1#32
  | 88 => 0x3E79FEE7#32
  | 89 => 0xBF8588C8#32
  | 90 => 0x3E885056#32
  | 91 => 0xBED6A149#32
  | 92 => 0xBEEEC610#32
  | 93 => 0x3E4D58AE#32
  | 94 => 0x400F2C96#32
  | 95 => 0xBF6D0710#32
  | 96 => 0xBF9C11DB#32
  | 97 => 0xBF1E04FD#32
  | 98 => 0x403800E9#32
  | 99 => 0x4012598F#32
  | 100 => 0x4033401F#32
  | 101 => 0x3F8B30A5#32
  | 102 => 0xBE438AD8#32
  | 103 => 0x3C3D5906#32
  | 104 => 0x3FD5F344#32
  | 105 => 0x3E3790C4#32
  | 106 => 0x3F5AACA2#32
  | 107 => 0x4014B73E#32
  | 108 => 0x3FD95CAA#32
  | 109 => 0xBFC4E262#32
  | 110 => 0xBF637E30#32
  | 111 => 0x3D10F91C#32
  | 112 => 0x3E975701#32
  | 113 => 0xBF8ACD5D#32
  | 114 => 0x3D64DE33#32
  | 115 => 0xBF769385#32
  | 116 => 0x3F213FA4#32
  | 117 => 0xBEF6A53A#32
  | 118 => 0x4057AF53#32
  | 119 => 0xBF9C46E3#32
  | 120 => 0xBEADAE3D#32
  | 121 => 0x3D4064F6#32
  | 122 => 0xBF4440EE#32
  | 123 => 0xBF364359#32
  | 124 => 0x3FE2703C#32
  | 125 => 0xBEAF6815#32
  | 126 => 0xBF5B5EA4#32
  | 127 => 0x3F682EA2#32
  | _ => 0#32

noncomputable abbrev lit0t0_525 (i : Nat) : BitVec 32 := match i % 128 with
  | 0 => 0x3ED3BF92#32
  | 1 => 0x3E78E67A#32
  | 2 => 0x401AE906#32
  | 3 => 0x407559D7#32
  | 4 => 0x3F10B5BA#32
  | 5 => 0x4002E5A8#32
  | 6 => 0x40362418#32
  | 7 => 0xBF631CA5#32
  | 8 => 0x3E354940#32
  | 9 => 0x3F95BBBC#32
  | 10 => 0x3D9AC7C3#32
  | 11 => 0x3F9E5C56#32
  | 12 => 0x3FE319C9#32
  | 13 => 0xBE994FAE#32
  | 14 => 0xBE196C46#32
  | 15 => 0x3F89E742#32
  | 16 => 0x3E4C211C#32
  | 17 => 0xBF4D8326#32
  | 18 => 0xBFCC7B91#32
  | 19 => 0xBEBC57A4#32
  | 20 => 0x3E931069#32
  | 21 => 0x3E7A1D33#32
  | 22 => 0x406BA5D5#32
  | 23 => 0x4069591F#32
  | 24 => 0x3EDAFF20#32
  | 25 => 0xBF3D9E64#32
  | 26 => 0xBEE7152E#32
  | 27 => 0xBF82EF75#32
  | 28 => 0x3F9707F6#32
  | 29 => 0xBF673830#32
  | 30 => 0xBF1CED17#32
  | 31 => 0xBF3C0A32#32
  | 32 => 0xBF0EAC45#32
  | 33 => 0x401B66B1#32
  | 34 => 0x3F863D2B#32
  | 35 => 0xBF434499#32
  | 36 => 0xBEFDC33C#32
  | 37 => 0xBE35B882#32
  | 38 => 0x3F8E7FDA#32
  | 39 => 0x3FBC61B5#32
  | 40 => 0x3F65BACC#32
  | 41 => 0xBF38BEFD#32
  | 42 => 0x3FDC4A04#32
  | 43 => 0xBF40B33E#32
  | 44 => 0x3FBBF4C4#32
  | 45 => 0x3D1B658D#32
  | 46 => 0x40920713#32
  | 47 => 0x3F1603EB#32
  | 48 => 0x3F079196#32
  | 49 => 0x3F2BD1F7#32
  | 50 => 0xBF15FF82#32
  | 51 => 0x40371BF1#32
  | 52 => 0xBF907790#32
  | 53 => 0x3F6544E1#32
  | 54 => 0xBE482379#32
  | 55 => 0x3C01D6DC#32
  | 56 => 0x3FCEB40B#32
  | 57 => 0xBE404D8A#32
  | 58 => 0x3FE75E0A#32
  | 59 => 0xBD23B858#32
  | 60 => 0xBE871E0C#32
  | 61 => 0x3EC51BBD#32
  | 62 => 0x3D3E577A#32
  | 63 => 0x3FF6814E#32
  | 64 => 0x40176D95#32
  | 65 => 0x3FC09D9B#32
  | 66 => 0x3F331506#32
  | 67 => 0xBF1DE788#32
  | 68 => 0x3FC74C52#32
  | 69 => 0x3FA31696#32
  | 70 => 0x3F42EEDD#32
  | 71 => 0x3F25F27C#32
  | 72 => 0x3F6FE865#32
  | 73 => 0xBF186BEE#32
  | 74 => 0x3E3B710A#32
  | 75 => 0xBF1AC829#32
  | 76 => 0x3E7934B1#32
  | 77 => 0x3F5B5E6F#32
  | 78 => 0x3FC7D0F4#32
  | 79 => 0xBF8BA55C#32
  | 80 => 0xBF5F061C#32
  | 81 => 0x409B7AA6#32
  | 82 => 0x3EF20EE1#32
  | 83 => 0x3FA9E82B#32
  | 84 => 0x40480B87#32
  | 85 => 0x3E6AB13B#32
  | 86 => 0xBED82104#32
  | 87 => 0x3DF91CE4#32
  | 88 => 0x3F1B57A3#32
  | 89 => 0xBF021E32#32
  | 90 => 0xBE9F1D8B#32
  | 91 => 0x3F22D206#32
  | 92 => 0xBE676EEA#32
  | 93 => 0x3FA651C1#32
  | 94 => 0xBF9E35D4#32
  | 95 => 0x40510EBC#32
  | 96 => 0x3F014038#32
  | 97 => 0x3E4F644D#32
  | 98 => 0x3F63E332#32
  | 99 => 0xBEC4F0B9#32
  | 100 => 0xBEA26729#32
  | 101 => 0x401C7898#32
  | 102 => 0xBEAA947E#32
  | 103 => 0xBF04EC7A#32
  | 104 => 0x3DE78043#32
  | 105 => 0x3E1AEE86#32
  | 106 => 0x3FA8EE23#32
  | 107 => 0x3EABCBC1#32
  | 108 => 0x3E3D9D69#32
  | 109 => 0xBF78F5DE#32
  | 110 => 0x3F0BC64F#32
  | 111 => 0x3E8B4D23#32
  | 112 => 0x3E6864F8#32
  | 113 => 0xBE6140B4#32
  | 114 => 0xBEE1A748#32
  | 115 => 0x3F8AF2EA#32
  | 116 => 0x3F91FA00#32
  | 117 => 0x40445248#32
  | 118 => 0x401F1D70#32
  | 119 => 0x3FB06496#32
  | 120 => 0x400074BE#32
  | 121 => 0xBF8AFF67#32
  | 122 => 0xBF1BB443#32
  | 123 => 0x406EFCAF#32
  | 124 => 0x3FE52672#32
  | 125 => 0x3FBFD63D#32
  | 126 => 0xBEFE0C9E#32
  | 127 => 0x3F2F4EBB#32
  | _ => 0#32

noncomputable abbrev lit0t0_526 (i : Nat) : BitVec 32 := match i % 128 with
  | 0 => 0x3F26E462#32
  | 1 => 0x3F58E7E0#32
  | 2 => 0x3FA4C345#32
  | 3 => 0x3F37A55D#32
  | 4 => 0x3F700165#32
  | 5 => 0x3E805EAC#32
  | 6 => 0xBEED9A4C#32
  | 7 => 0x4062EFDF#32
  | 8 => 0xBF76039A#32
  | 9 => 0x3E454EF4#32
  | 10 => 0xBF1F3ACE#32
  | 11 => 0x3F8C3DF1#32
  | 12 => 0xBF50E233#32
  | 13 => 0x400CA0E0#32
  | 14 => 0x3ED2A3DE#32
  | 15 => 0xBF231EAA#32
  | 16 => 0xBF10FDC9#32
  | 17 => 0xBFB718BA#32
  | 18 => 0x403C94B4#32
  | 19 => 0x3F36088C#32
  | 20 => 0x400EDC00#32
  | 21 => 0x3F290362#32
  | 22 => 0xBD7FFEBE#32
  | 23 => 0xBFC97FB6#32
  | 24 => 0xBFABC6B9#32
  | 25 => 0x3D88BCD7#32
  | 26 => 0xBE16E66E#32
  | 27 => 0x3F5A6752#32
  | 28 => 0x3EEADDE6#32
  | 29 => 0x3F21B992#32
  | 30 => 0x3FAF1C42#32
  | 31 => 0xBF7D093F#32
  | 32 => 0xBDFAC6D9#32
  | 33 => 0xBE8F500A#32
  | 34 => 0xBEE518EC#32
  | 35 => 0x3F8DC479#32
  | 36 => 0x40512533#32
  | 37 => 0x3F3620A6#32
  | 38 => 0x3FB9F2DB#32
  | 39 => 0xBE743CD8#32
  | 40 => 0xBDE1C929#32
  | 41 => 0xBDD5ECEF#32
  | 42 => 0xBF1A2AF1#32
  | 43 => 0x3DEF29DA#32
  | 44 => 0xBE217575#32
  | 45 => 0x3E88BBA8#32
  | 46 => 0x3F07BAD4#32
  | 47 => 0x3FF930A7#32
  | 48 => 0x3CC1A7A2#32
  | 49 => 0x3E05ED6C#32
  | 50 => 0x406A0364#32
  | 51 => 0xBEA1F5B2#32
  | 52 => 0x3F3C96CE#32
  | 53 => 0xBEF54CE2#32
  | 54 => 0xBF331A73#32
  | 55 => 0xBF243B16#32
  | 56 => 0x3F88167B#32
  | 57 => 0xBD719476#32
  | 58 => 0x3ED63B29#32
  | 59 => 0x3E05F50B#32
  | 60 => 0x40884E20#32
  | 61 => 0xBF3A1C5C#32
  | 62 => 0xBF695C78#32
  | 63 => 0xBF95502C#32
  | 64 => 0x3FB97B23#32
  | 65 => 0x40385427#32
  | 66 => 0x3E885B90#32
  | 67 => 0x3E9A4F54#32
  | 68 => 0x3EAC288D#32
  | 69 => 0x3F8E2BE4#32
  | 70 => 0x3E3067C0#32
  | 71 => 0xBEC3DA22#32
  | 72 => 0xBEEED3D3#32
  | 73 => 0x40495AA8#32
  | 74 => 0xBF7C49F0#32
  | 75 => 0x3EE5017C#32
  | 76 => 0x3E9CDAEE#32
  | 77 => 0xBF69091E#32
  | 78 => 0xBE410B49#32
  | 79 => 0x3F8E9ED0#32
  | 80 => 0xBF67D463#32
  | 81 => 0x3F4CB841#32
  | 82 => 0x3F5BE394#32
  | 83 => 0xBE2AADFD#32
  | 84 => 0x3EA503C1#32
  | 85 => 0xBF83B1F7#32
  | 86 => 0xBE1641BD#32
  | 87 => 0xBF1DDAC8#32
  | 88 => 0x3E42A8D0#32
  | 89 => 0x3FBC25D3#32
  | 90 => 0x3FCEDC3E#32
  | 91 => 0x3D6471F3#32
  | 92 => 0x3FB9F4A6#32
  | 93 => 0xBD934355#32
  | 94 => 0xBE051556#32
  | 95 => 0x3F977F92#32
  | 96 => 0xBD468230#32
  | 97 => 0x3F26211E#32
  | 98 => 0x3D6CF353#32
  | 99 => 0xBE7333CA#32
  | 100 => 0xBD3C8266#32
  | 101 => 0x3FD43A0F#32
  | 102 => 0x3F9B3D96#32
  | 103 => 0x3ED71288#32
  | 104 => 0xBEC5F352#32
  | 105 => 0xBF3CDF6B#32
  | 106 => 0x3F154A58#32
  | 107 => 0x3E2F79ED#32
  | 108 => 0xBEE79A8F#32
  | 109 => 0x3ECC0E18#32
  | 110 => 0xBF34036F#32
  | 111 => 0x3EBCEE29#32
  | 112 => 0x3F5918A0#32
  | 113 => 0x3F61948C#32
  | 114 => 0xBF5E3E24#32
  | 115 => 0x3F4358AB#32
  | 116 => 0xBF917DC7#32
  | 117 => 0x4002986A#32
  | 118 => 0xBF0C8396#32
  | 119 => 0x3F9ABEDC#32
  | 120 => 0x40446C32#32
  | 121 => 0xBF55413A#32
  | 122 => 0x3E770F2C#32
  | 123 => 0x3EDB58A4#32
  | 124 => 0x3D46447B#32
  | 125 => 0x3EADED72#32
  | 126 => 0x3EA1CE3C#32
  | 127 => 0x3FDB1111#32
  | _ => 0#32

noncomputable abbrev lit0t0_527 (i : Nat) : BitVec 32 := match i % 128 with
  | 0 => 0xBED0ED21#32
  | 1 => 0x40088659#32
  | 2 => 0xBEA6A055#32
  | 3 => 0x3E9DECD7#32
  | 4 => 0x3E64C93F#32
  | 5 => 0x3D94A96A#32
  | 6 => 0xBE8DA55D#32
  | 7 => 0xBF38CC75#32
  | 8 => 0x3ED16E19#32
  | 9 => 0xBF0610D1#32
  | 10 => 0xBF0619C7#32
  | 11 => 0x3F904AB5#32
  | 12 => 0xBEDF7DAA#32
  | 13 => 0xBEF1EC65#32
  | 14 => 0x3F266A39#32
  | 15 => 0xBE8C0D10#32
  | 16 => 0xBF3B6DCF#32
  | 17 => 0xBED8ACF1#32
  | 18 => 0x3E5C710A#32
  | 19 => 0x3F96255F#32
  | 20 => 0x3DE78B0A#32
  | 21 => 0xBEE3C275#32
  | 22 => 0x400331FE#32
  | 23 => 0xBF4C0BBD#32
  | 24 => 0x3EFBD369#32
  | 25 => 0xBF7C5490#32
  | 26 => 0xBF5A51DB#32
  | 27 => 0x3F75E0C4#32
  | 28 => 0x3F5A2965#32
  | 29 => 0x3E5931FC#32
  | 30 => 0x3F3C5178#32
  | 31 => 0x3FA03E5B#32
  | 32 => 0x3F320975#32
  | 33 => 0xBE4E0C3F#32
  | 34 => 0x40225BEC#32
  | 35 => 0x3DC8F951#32
  | 36 => 0x3DCA1CB1#32
  | 37 => 0xBE633215#32
  | 38 => 0xBE0F40FD#32
  | 39 => 0xBF651676#32
  | 40 => 0xBD7B0DE0#32
  | 41 => 0x4006BABC#32
  | 42 => 0xBEB260A2#32
  | 43 => 0x3F0DFAE0#32
  | 44 => 0x3F5CC934#32
  | 45 => 0x3F8C7642#32
  | 46 => 0x3F7145DA#32
  | 47 => 0xBE330616#32
  | 48 => 0xBF33F208#32
  | 49 => 0x40941F5D#32
  | 50 => 0x3F1AC7E3#32
  | 51 => 0x3FF45EB8#32
  | 52 => 0xBEC0E11F#32
  | 53 => 0x40089A2A#32
  | 54 => 0xBF9B60B4#32
  | 55 => 0x40958B66#32
  | 56 => 0xBF87D92D#32
  | 57 => 0x3F06B3E9#32
  | 58 => 0x3EA7B28C#32
  | 59 => 0x3EA58AF1#32
  | 60 => 0x3CBCA79C#32
  | 61 => 0xBE476EFC#32
  | 62 => 0x3E267E16#32
  | 63 => 0x3F345455#32
  | 64 => 0xBF205D32#32
  | 65 => 0x3F15E20E#32
  | 66 => 0x3F685B52#32
  | 67 => 0x3F8854C4#32
  | 68 => 0xBF3CFDD0#32
  | 69 => 0x3F837DA1#32
  | 70 => 0x3D75F862#32
  | 71 => 0xBE2216DD#32
  | 72 => 0xBF438404#32
  | 73 => 0xBF5ACEDC#32
  | 74 => 0x3F898453#32
  | 75 => 0xBE1E7B00#32
  | 76 => 0xBF18AD01#32
  | 77 => 0xBE45869A#32
  | 78 => 0x3DE42DE5#32
  | 79 => 0x3EA11A8D#32
  | 80 => 0xBEDA5883#32
  | 81 => 0x3F68DFBA#32
  | 82 => 0xBF9EC06B#32
  | 83 => 0xBF2A92BB#32
  | 84 => 0xBEBB0D62#32
  | 85 => 0x3F71D736#32
  | 86 => 0x3EC26D8F#32
  | 87 => 0x3FDE43F6#32
  | 88 => 0xBFD0D041#32
  | 89 => 0x3F540416#32
  | 90 => 0x40322B9A#32
  | 91 => 0xBD2CA13F#32
  | 92 => 0x3E9085DF#32
  | 93 => 0x3EA3F86F#32
  | 94 => 0x3EF52938#32
  | 95 => 0x3F30E065#32
  | 96 => 0x3EEB9468#32
  | 97 => 0xBFAE7ED2#32
  | 98 => 0xBFA381D2#32
  | 99 => 0xBEF2EDEE#32
  | 100 => 0x3F8EEC62#32
  | 101 => 0x3E72E239#32
  | 102 => 0xBE1BC5F7#32
  | 103 => 0x3F7363E9#32
  | 104 => 0x3FDAA9BE#32
  | 105 => 0xBE00F806#32
  | 106 => 0xBE1420E1#32
  | 107 => 0x3F5AA570#32
  | 108 => 0x400E0D25#32
  | 109 => 0x3FEC0D90#32
  | 110 => 0x3F33DD08#32
  | 111 => 0x3F7EA8FE#32
  | 112 => 0x3D0868E6#32
  | 113 => 0xBCF611DB#32
  | 114 => 0xBF587A8E#32
  | 115 => 0x3F27D22F#32
  | 116 => 0xBF042476#32
  | 117 => 0x3F406E26#32
  | 118 => 0x3FAA8FC1#32
  | 119 => 0x3ED18D68#32
  | 120 => 0xBE98D56F#32
  | 121 => 0xBEF5D9EE#32
  | 122 => 0xBEAF3738#32
  | 123 => 0xBEEDCAA8#32
  | 124 => 0xBE85382D#32
  | 125 => 0x3ED13E3D#32
  | 126 => 0x3F83B965#32
  | 127 => 0xBF9BC168#32
  | _ => 0#32

noncomputable abbrev lit0t0_528 (i : Nat) : BitVec 32 := match i % 128 with
  | 0 => 0x3EE1EE61#32
  | 1 => 0xBF96340A#32
  | 2 => 0x4021F999#32
  | 3 => 0x3FBD3811#32
  | 4 => 0x3F2721A6#32
  | 5 => 0x3EA5F7CF#32
  | 6 => 0x40297C36#32
  | 7 => 0xBE8AD073#32
  | 8 => 0x3EA6124D#32
  | 9 => 0x3FEAB565#32
  | 10 => 0x3F9C92D6#32
  | 11 => 0x3EF40BFF#32
  | 12 => 0x3F2035AE#32
  | 13 => 0x3F192524#32
  | 14 => 0xBF141300#32
  | 15 => 0xBE623AE0#32
  | 16 => 0xBEDBFED3#32
  | 17 => 0x3ED21E77#32
  | 18 => 0x400FBC96#32
  | 19 => 0xBEC32204#32
  | 20 => 0x4042BDC4#32
  | 21 => 0x3F57AFD0#32
  | 22 => 0x3F639EC4#32
  | 23 => 0x3FA1FB10#32
  | 24 => 0xBF1B1670#32
  | 25 => 0xBF1B0F89#32
  | 26 => 0xBEEDCB2F#32
  | 27 => 0x3FDC3F3B#32
  | 28 => 0x4014FA00#32
  | 29 => 0xBD83A415#32
  | 30 => 0xBDE51E60#32
  | 31 => 0xBF25E2AE#32
  | 32 => 0xBF7A432A#32
  | 33 => 0xBEF087A0#32
  | 34 => 0x40903EEF#32
  | 35 => 0xBC7911E1#32
  | 36 => 0x3E930F51#32
  | 37 => 0xBE3CB619#32
  | 38 => 0x3F8D7E38#32
  | 39 => 0xBC707396#32
  | 40 => 0xBDDF753D#32
  | 41 => 0xBF1FA3B7#32
  | 42 => 0xBE657773#32
  | 43 => 0x3EB11BE1#32
  | 44 => 0x3ED84EA9#32
  | 45 => 0x3F1A079D#32
  | 46 => 0x3FE40061#32
  | 47 => 0xBFA0A7D3#32
  | 48 => 0x3F130302#32
  | 49 => 0xBE3CC5AB#32
  | 50 => 0x3FD66596#32
  | 51 => 0xBEEED764#32
  | 52 => 0x40E1F6C0#32
  | 53 => 0x3F4FD3EB#32
  | 54 => 0xBDAB22A9#32
  | 55 => 0xBE2CD915#32
  | 56 => 0x3F7351BA#32
  | 57 => 0xBF5A4C65#32
  | 58 => 0x406C53DE#32
  | 59 => 0x3F9E3225#32
  | 60 => 0x3E28F2E7#32
  | 61 => 0xBDC9FD44#32
  | 62 => 0x40827531#32
  | 63 => 0x3F591860#32
  | 64 => 0x3F8348DE#32
  | 65 => 0x3DD4072D#32
  | 66 => 0xBF8D0455#32
  | 67 => 0x40A2D65B#32
  | 68 => 0x401FB054#32
  | 69 => 0x3DBB9DC3#32
  | 70 => 0xBCBBF773#32
  | 71 => 0x3E50A3DC#32
  | 72 => 0x3FDD2B70#32
  | 73 => 0x402484FC#32
  | 74 => 0x401BDBBF#32
  | 75 => 0x3FEEE93B#32
  | 76 => 0xBF9DAFC8#32
  | 77 => 0xBE1DE35D#32
  | 78 => 0xBFAECDB2#32
  | 79 => 0x3F4A30AE#32
  | 80 => 0x3F30ED92#32
  | 81 => 0xBEF8BBF0#32
  | 82 => 0x3F7D5E98#32
  | 83 => 0x400087CE#32
  | 84 => 0xBF777601#32
  | 85 => 0x3DA8CC70#32
  | 86 => 0x3FB78350#32
  | 87 => 0x3F2F9CF9#32
  | 88 => 0x3F44DA58#32
  | 89 => 0x3FB1F94C#32
  | 90 => 0xBCEAA722#32
  | 91 => 0xBECC3BBC#32
  | 92 => 0x408BD1A2#32
  | 93 => 0x40237539#32
  | 94 => 0x4015274D#32
  | 95 => 0x3EB128C9#32
  | 96 => 0xBE695630#32
  | 97 => 0xBF59A64B#32
  | 98 => 0xBF4A57CC#32
  | 99 => 0xBE876B64#32
  | 100 => 0x3F7D291D#32
  | 101 => 0x3E9C20E2#32
  | 102 => 0x3F8EAC3C#32
  | 103 => 0xBD3F0084#32
  | 104 => 0x405AEBF4#32
  | 105 => 0xBED7DB7A#32
  | 106 => 0xBEECB627#32
  | 107 => 0x3F0C446B#32
  | 108 => 0xBF7CB381#32
  | 109 => 0x3F9E1D2C#32
  | 110 => 0x3F7DD404#32
  | 111 => 0xBE0B0E92#32
  | 112 => 0xBF968EDD#32
  | 113 => 0xBE99365F#32
  | 114 => 0xBD7D2363#32
  | 115 => 0xBE653022#32
  | 116 => 0xBDAEB2BF#32
  | 117 => 0x3FFD7DF9#32
  | 118 => 0x3EC23E85#32
  | 119 => 0x3F896D8A#32
  | 120 => 0x4019CD89#32
  | 121 => 0x4023A9E9#32
  | 122 => 0xBF63D12D#32
  | 123 => 0xBEE7ED40#32
  | 124 => 0xBD918BD6#32
  | 125 => 0xBEC89AD3#32
  | 126 => 0x4035B1DA#32
  | 127 => 0x3FDDCA90#32
  | _ => 0#32

noncomputable abbrev lit0t0_529 (i : Nat) : BitVec 32 := match i % 128 with
  | 0 => 0x3F3F87D8#32
  | 1 => 0x3FB4F272#32
  | 2 => 0x40230C43#32
  | 3 => 0x40129DA7#32
  | 4 => 0x3F919A50#32
  | 5 => 0x3DDA14AA#32
  | 6 => 0xBE423F9A#32
  | 7 => 0x409508F5#32
  | 8 => 0x3E35A8C8#32
  | 9 => 0x3D03EA74#32
  | 10 => 0x3F2AF1CC#32
  | 11 => 0x3FDFCCB6#32
  | 12 => 0x3F8266E6#32
  | 13 => 0x3EAC87AF#32
  | 14 => 0x3F41BDBC#32
  | 15 => 0x404CDEAB#32
  | 16 => 0xBF904B6F#32
  | 17 => 0xBE9DF88E#32
  | 18 => 0xBE9C829D#32
  | 19 => 0xBEEF1D65#32
  | 20 => 0xBE901ABF#32
  | 21 => 0x3E915980#32
  | 22 => 0xBF039D7B#32
  | 23 => 0x3C3AFEA5#32
  | 24 => 0xBF8D0E8C#32
  | 25 => 0x3F7FA15F#32
  | 26 => 0x4004DDDA#32
  | 27 => 0x40478B94#32
  | 28 => 0x402AC64E#32
  | 29 => 0x3DC7C044#32
  | 30 => 0x3ED3BCE9#32
  | 31 => 0xBD7305D3#32
  | 32 => 0x3F46AF74#32
  | 33 => 0xBF276416#32
  | 34 => 0xBE01A48E#32
  | 35 => 0x4025C30D#32
  | 36 => 0x3FB85E91#32
  | 37 => 0x3DFB67CF#32
  | 38 => 0xBE5673CB#32
  | 39 => 0x403B369F#32
  | 40 => 0xBEFE3A72#32
  | 41 => 0x3FB615B8#32
  | 42 => 0x3FE03167#32
  | 43 => 0x3F558354#32
  | 44 => 0xBEBED6BD#32
  | 45 => 0x3FA7BB52#32
  | 46 => 0xBE8D7A95#32
  | 47 => 0x3FE2F8CF#32
  | 48 => 0x4079FE48#32
  | 49 => 0xBD44C1DA#32
  | 50 => 0xBF0A870F#32
  | 51 => 0x3F520F63#32
  | 52 => 0xBE770885#32
  | 53 => 0x3D31FA41#32
  | 54 => 0x3F4F2465#32
  | 55 => 0xBF08C93A#32
  | 56 => 0xBE0494CC#32
  | 57 => 0xBDC420CE#32
  | 58 => 0x3F127AE0#32
  | 59 => 0x3EC62FAE#32
  | 60 => 0x3FA40646#32
  | 61 => 0xBF517F9C#32
  | 62 => 0x3FB19B74#32
  | 63 => 0x3E2C7C5E#32
  | 64 => 0x3E2977C3#32
  | 65 => 0x3D757353#32
  | 66 => 0xBE093B48#32
  | 67 => 0x3E01D445#32
  | 68 => 0x3F337C43#32
  | 69 => 0x4014AE98#32
  | 70 => 0x3FFD8F76#32
  | 71 => 0xBF52C922#32
  | 72 => 0xBF36AC5A#32
  | 73 => 0xBF8508FB#32
  | 74 => 0xBE0365CC#32
  | 75 => 0xBECB8BDA#32
  | 76 => 0x3D9AB55C#32
  | 77 => 0x3F6661E2#32
  | 78 => 0x3EB5EFEE#32
  | 79 => 0x4049018B#32
  | 80 => 0xBF77E04A#32
  | 81 => 0xBEBD1E86#32
  | 82 => 0x3F18C412#32
  | 83 => 0xBEF2CC13#32
  | 84 => 0xBF0E6F3A#32
  | 85 => 0xBF75F3B0#32
  | 86 => 0x40D4B56D#32
  | 87 => 0x3F2650D8#32
  | 88 => 0x405CF759#32
  | 89 => 0x3E4CD549#32
  | 90 => 0x4025D411#32
  | 91 => 0x3F9284BF#32
  | 92 => 0x3EAB3C6C#32
  | 93 => 0x3FD57149#32
  | 94 => 0xBFC70426#32
  | 95 => 0x3DB4C7CD#32
  | 96 => 0x3F61D54A#32
  | 97 => 0xBEC04106#32
  | 98 => 0x3F8441A8#32
  | 99 => 0x407FF8F8#32
  | 100 => 0xBDB94F11#32
  | 101 => 0x40314B38#32
  | 102 => 0x3FC5500C#32
  | 103 => 0x3F4BE0A4#32
  | 104 => 0xBE05FFC0#32
  | 105 => 0x3CC4E2DE#32
  | 106 => 0xBEC29122#32
  | 107 => 0x3F9BA792#32
  | 108 => 0xBF8E5364#32
  | 109 => 0xBF9A4E6E#32
  | 110 => 0xBF0B93F2#32
  | 111 => 0x3DD4DF86#32
  | 112 => 0x3F7885B0#32
  | 113 => 0x3F69EF8F#32
  | 114 => 0xBED78BCD#32
  | 115 => 0xBDFF20AB#32
  | 116 => 0xBF7B517E#32
  | 117 => 0x3FEA5C42#32
  | 118 => 0x3E0F0E86#32
  | 119 => 0xBF186A53#32
  | 120 => 0xBFDAF641#32
  | 121 => 0x4014230A#32
  | 122 => 0x3F37EA48#32
  | 123 => 0x3FC8B8C2#32
  | 124 => 0x3EA505B7#32
  | 125 => 0xBD8A7F10#32
  | 126 => 0xBE8BCEC0#32
  | 127 => 0xBEEE65CC#32
  | _ => 0#32

noncomputable abbrev lit0t0_530 (i : Nat) : BitVec 32 := match i % 128 with
  | 0 => 0x3E8A88D0#32
  | 1 => 0x409E0FA9#32
  | 2 => 0xBEAACD09#32
  | 3 => 0x3EFA38A4#32
  | 4 => 0xBEA86557#32
  | 5 => 0x3FFF793C#32
  | 6 => 0x3FE31811#32
  | 7 => 0x3F150243#32
  | 8 => 0x3FBC862A#32
  | 9 => 0xBF98839B#32
  | 10 => 0x3EA7A7A2#32
  | 11 => 0x3FECF15C#32
  | 12 => 0x3ED65594#32
  | 13 => 0x3E42CF2D#32
  | 14 => 0xBF203E3C#32
  | 15 => 0x3DD0F731#32
  | 16 => 0x3F879D52#32
  | 17 => 0x3DE6EB05#32
  | 18 => 0xBE3F9252#32
  | 19 => 0xBF7249EC#32
  | 20 => 0x3E320563#32
  | 21 => 0xBE38F021#32
  | 22 => 0x3F317A8C#32
  | 23 => 0xBD58E6A4#32
  | 24 => 0x3E3846A7#32
  | 25 => 0x3FA93501#32
  | 26 => 0xBF55FD68#32
  | 27 => 0x3EEDD0AE#32
  | 28 => 0x40012170#32
  | 29 => 0x3EBB4382#32
  | 30 => 0xBF093619#32
  | 31 => 0x4029810A#32
  | 32 => 0x4014C9D1#32
  | 33 => 0xBF207CCB#32
  | 34 => 0x3EA3AFF9#32
  | 35 => 0x3EA0752B#32
  | 36 => 0x3FEA19E1#32
  | 37 => 0x3F5D4E58#32
  | 38 => 0x401B6121#32
  | 39 => 0x3F0E49F0#32
  | 40 => 0x3F084B05#32
  | 41 => 0xBF62A938#32
  | 42 => 0xBEFB6651#32
  | 43 => 0x4009D701#32
  | 44 => 0xBF27373D#32
  | 45 => 0x3EA04DBF#32
  | 46 => 0x3FC35BAE#32
  | 47 => 0x3F8C2EDA#32
  | 48 => 0x3FCF47F4#32
  | 49 => 0x3F83AC59#32
  | 50 => 0x3EBC4F3C#32
  | 51 => 0x3F575AC9#32
  | 52 => 0x3ECBFE1D#32
  | 53 => 0x3FB60E75#32
  | 54 => 0xBEF5D345#32
  | 55 => 0x3FB21901#32
  | 56 => 0x3E40E585#32
  | 57 => 0xBE99FA5B#32
  | 58 => 0x3F458050#32
  | 59 => 0x400849B2#32
  | 60 => 0x3FF81217#32
  | 61 => 0xBEF7FA21#32
  | 62 => 0x3F1B3ADD#32
  | 63 => 0xBEB59056#32
  | 64 => 0x3ED93BA5#32
  | 65 => 0x4001B42C#32
  | 66 => 0x3F80FC0D#32
  | 67 => 0x3FC558CB#32
  | 68 => 0x3FA3C406#32
  | 69 => 0xBF937EC7#32
  | 70 => 0xBE4663AC#32
  | 71 => 0x3FB1CD20#32
  | 72 => 0x40355950#32
  | 73 => 0xBF28E30A#32
  | 74 => 0xBD858B04#32
  | 75 => 0x3F16EE1B#32
  | 76 => 0x3FB03F14#32
  | 77 => 0xBFA537AB#32
  | 78 => 0x3E879A1A#32
  | 79 => 0x3E2F27D5#32
  | 80 => 0x3ECDED29#32
  | 81 => 0xBEDEDD04#32
  | 82 => 0xBF99B214#32
  | 83 => 0x3F8B52ED#32
  | 84 => 0xBF57C052#32
  | 85 => 0x401B6F92#32
  | 86 => 0x3F2BF0A0#32
  | 87 => 0x3F0B7004#32
  | 88 => 0xBC33D4EC#32
  | 89 => 0xBF70ADF5#32
  | 90 => 0x3DA5551E#32
  | 91 => 0x3E739273#32
  | 92 => 0x3DFB373A#32
  | 93 => 0x3E8A41CB#32
  | 94 => 0x3FE4FF65#32
  | 95 => 0x3FAE64BE#32
  | 96 => 0x3E140AF2#32
  | 97 => 0xBDEC02C3#32
  | 98 => 0xBEEE1FCE#32
  | 99 => 0xBF2697CA#32
  | 100 => 0x4055283E#32
  | 101 => 0xBED6472E#32
  | 102 => 0xBEF5B675#32
  | 103 => 0x4021F962#32
  | 104 => 0x3EA8214A#32
  | 105 => 0x3FD1BAA0#32
  | 106 => 0xBC750B89#32
  | 107 => 0x40245BDA#32
  | 108 => 0x3FA583DE#32
  | 109 => 0x409B1811#32
  | 110 => 0xBF8710AC#32
  | 111 => 0x3FBA896F#32
  | 112 => 0x4000C69A#32
  | 113 => 0x3F7C351F#32
  | 114 => 0xBE929731#32
  | 115 => 0x408F72A9#32
  | 116 => 0x40E03A04#32
  | 117 => 0xBEEE31B4#32
  | 118 => 0xBEDD6CFE#32
  | 119 => 0xBE9D4662#32
  | 120 => 0x3CD098A6#32
  | 121 => 0x3FC329F8#32
  | 122 => 0xBF573B44#32
  | 123 => 0x3FB431D3#32
  | 124 => 0xBE9449B7#32
  | 125 => 0x403C95E1#32
  | 126 => 0x4028F5A2#32
  | 127 => 0xBF7ED4D0#32
  | _ => 0#32

noncomputable abbrev lit0t0_531 (i : Nat) : BitVec 32 := match i % 128 with
  | 0 => 0xBF059B11#32
  | 1 => 0xBE4330B3#32
  | 2 => 0x40203B93#32
  | 3 => 0x3FCA0FF0#32
  | 4 => 0x3F97D6B1#32
  | 5 => 0x4063DD1C#32
  | 6 => 0x3E5A4FAF#32
  | 7 => 0x3FD32D6D#32
  | 8 => 0xBE4B8D47#32
  | 9 => 0xBF177336#32
  | 10 => 0x3DD7C2B8#32
  | 11 => 0xBF26B225#32
  | 12 => 0x3ECED08B#32
  | 13 => 0x40204249#32
  | 14 => 0x402921A9#32
  | 15 => 0x3F1E7408#32
  | 16 => 0xBE44DA4A#32
  | 17 => 0xBF8D01E3#32
  | 18 => 0xBFB70A9F#32
  | 19 => 0x3DE29C13#32
  | 20 => 0x3C3FC8BC#32
  | 21 => 0x3E030C4F#32
  | 22 => 0x3FDF25AB#32
  | 23 => 0x3E008AF9#32
  | 24 => 0xBF021F0A#32
  | 25 => 0x3EA50E5B#32
  | 26 => 0x405AD464#32
  | 27 => 0x3FFDC6B2#32
  | 28 => 0xBDE8D40F#32
  | 29 => 0x3F1D835B#32
  | 30 => 0x3EC4216A#32
  | 31 => 0x407A4F1B#32
  | 32 => 0x3BCE138A#32
  | 33 => 0x3E956A68#32
  | 34 => 0x403EFF83#32
  | 35 => 0x3FA7FED6#32
  | 36 => 0xBF717683#32
  | 37 => 0x3F3A17BA#32
  | 38 => 0x3F2F8F15#32
  | 39 => 0xBF1829E3#32
  | 40 => 0xBE3AB560#32
  | 41 => 0xBFBDB39B#32
  | 42 => 0x405C7CD9#32
  | 43 => 0xBFA100C2#32
  | 44 => 0x3D11E2B2#32
  | 45 => 0x3EB62306#32
  | 46 => 0x3FBAF8B2#32
  | 47 => 0xBEDAFD75#32
  | 48 => 0xBFB96CBC#32
  | 49 => 0x3FACA086#32
  | 50 => 0xBE29164F#32
  | 51 => 0xBDC4F450#32
  | 52 => 0xBDEE9C15#32
  | 53 => 0x3F500B34#32
  | 54 => 0xBF9F90BF#32
  | 55 => 0xBE84DF6B#32
  | 56 => 0x40021050#32
  | 57 => 0x401410DF#32
  | 58 => 0xBE3E5148#32
  | 59 => 0x3FE3AD32#32
  | 60 => 0xBF57027B#32
  | 61 => 0x3EFCDF2A#32
  | 62 => 0x3FE22B5D#32
  | 63 => 0x3F70D90E#32
  | 64 => 0x3E6B97D2#32
  | 65 => 0xBEE03ED0#32
  | 66 => 0x3F058A95#32
  | 67 => 0xBE8FB307#32
  | 68 => 0xBF28A626#32
  | 69 => 0xBE9E8185#32
  | 70 => 0xBF519718#32
  | 71 => 0x3FD5287C#32
  | 72 => 0x3EEE02CA#32
  | 73 => 0x3F8380BC#32
  | 74 => 0xBE420554#32
  | 75 => 0xBF6F6E6E#32
  | 76 => 0x3FAA1013#32
  | 77 => 0xBF6E4465#32
  | 78 => 0x3FE5CE29#32
  | 79 => 0xBF482887#32
  | 80 => 0x3F05399C#32
  | 81 => 0x3DADBA9A#32
  | 82 => 0x3F1FCE55#32
  | 83 => 0x3E6C836B#32
  | 84 => 0x3DFC1FC6#32
  | 85 => 0x3FE64246#32
  | 86 => 0x3FCDE822#32
  | 87 => 0x40084412#32
  | 88 => 0x3F83AF82#32
  | 89 => 0xBF7B7095#32
  | 90 => 0x3D7D9173#32
  | 91 => 0x40149FAC#32
  | 92 => 0x3F9DB26C#32
  | 93 => 0xBD791D81#32
  | 94 => 0x3EB5B2EC#32
  | 95 => 0xBE661DA4#32
  | 96 => 0xBF034750#32
  | 97 => 0xBF54F6FA#32
  | 98 => 0xBF9B5E59#32
  | 99 => 0x3F88EF19#32
  | 100 => 0x3F860959#32
  | 101 => 0xBF3310ED#32
  | 102 => 0x3EACE504#32
  | 103 => 0xBF247178#32
  | 104 => 0x3EE9F41C#32
  | 105 => 0xBF672319#32
  | 106 => 0x3EE21D92#32
  | 107 => 0xBE4E002E#32
  | 108 => 0x3FF8CCEF#32
  | 109 => 0x3E49EA73#32
  | 110 => 0xBF1D07A2#32
  | 111 => 0xBF11E083#32
  | 112 => 0x3E32C419#32
  | 113 => 0xBF07513B#32
  | 114 => 0xBFA3A14C#32
  | 115 => 0x401E8FD7#32
  | 116 => 0x3DAB8ABF#32
  | 117 => 0x3FEEE198#32
  | 118 => 0x3FB90777#32
  | 119 => 0xBF05C150#32
  | 120 => 0xBE3742A0#32
  | 121 => 0xBEEF05EC#32
  | 122 => 0x4076403C#32
  | 123 => 0xBE0BDD7A#32
  | 124 => 0x406CCC16#32
  | 125 => 0x3F31BED5#32
  | 126 => 0xBE84F98C#32
  | 127 => 0xBEEE2172#32
  | _ => 0#32

noncomputable abbrev lit0t0_532 (i : Nat) : BitVec 32 := match i % 128 with
  | 0 => 0x3FF1C829#32
  | 1 => 0x3F5D77A4#32
  | 2 => 0x3EAF9B78#32
  | 3 => 0x3F875F3C#32
  | 4 => 0xBEB6F472#32
  | 5 => 0x40797BBD#32
  | 6 => 0x3F092992#32
  | 7 => 0xBF9631E6#32
  | 8 => 0xBEA32E51#32
  | 9 => 0x3F7BF59E#32
  | 10 => 0xBEC9DCFC#32
  | 11 => 0x3E06FCAD#32
  | 12 => 0xBEE77EE5#32
  | 13 => 0xBFC8A4FE#32
  | 14 => 0x3EB78664#32
  | 15 => 0x400FAA81#32
  | 16 => 0x3F3081DD#32
  | 17 => 0x3F37CE3D#32
  | 18 => 0xBFAA9010#32
  | 19 => 0xBF11F077#32
  | 20 => 0xBED3136F#32
  | 21 => 0xBF247BDD#32
  | 22 => 0x3E4A3C32#32
  | 23 => 0xBF7FFDC4#32
  | 24 => 0x3F4F6175#32
  | 25 => 0x3D356ABC#32
  | 26 => 0x4006C2E7#32
  | 27 => 0xBD15236A#32
  | 28 => 0x3F58F98F#32
  | 29 => 0xBE93F93F#32
  | 30 => 0x3FECEA00#32
  | 31 => 0xBD7BBC37#32
  | 32 => 0xBF3CBA0C#32
  | 33 => 0x3FCB5EB6#32
  | 34 => 0x3FF57BD6#32
  | 35 => 0xBF0076D0#32
  | 36 => 0xBBAC9B6A#32
  | 37 => 0x3CDF1A79#32
  | 38 => 0x401EC924#32
  | 39 => 0xBFBA3BDE#32
  | 40 => 0xBEFB7F5C#32
  | 41 => 0x3CECADC5#32
  | 42 => 0xBE4A8D9A#32
  | 43 => 0xBF6876C6#32
  | 44 => 0x3F162E26#32
  | 45 => 0xBE2F6786#32
  | 46 => 0xBE61D1E6#32
  | 47 => 0x4005F4D8#32
  | 48 => 0x3FE15B56#32
  | 49 => 0xBED0DB22#32
  | 50 => 0xBDA030AD#32
  | 51 => 0x409AD7A7#32
  | 52 => 0x3FBAFAA6#32
  | 53 => 0xBE73A3B8#32
  | 54 => 0x3F9C4678#32
  | 55 => 0xBEBA9AED#32
  | 56 => 0xBE4F4356#32
  | 57 => 0xBEB679D9#32
  | 58 => 0x3F070FBB#32
  | 59 => 0x3D9B4966#32
  | 60 => 0xBF650844#32
  | 61 => 0x3FBD70AC#32
  | 62 => 0xBDA90A4C#32
  | 63 => 0x3F4685DF#32
  | 64 => 0xBF3A3A67#32
  | 65 => 0x40AEB2EF#32
  | 66 => 0x3FA2AF53#32
  | 67 => 0xBEEE0C30#32
  | 68 => 0xBF949EC1#32
  | 69 => 0x3EBB8001#32
  | 70 => 0x3DD6B1FB#32
  | 71 => 0xBF1E8705#32
  | 72 => 0xBF386D47#32
  | 73 => 0x402A3DAC#32
  | 74 => 0x3EF188EA#32
  | 75 => 0xBEB3E9B1#32
  | 76 => 0xBFB162CA#32
  | 77 => 0xBA576158#32
  | 78 => 0x400FE469#32
  | 79 => 0x3E858B6F#32
  | 80 => 0x3EE09154#32
  | 81 => 0xBF21FC63#32
  | 82 => 0x3D9D2D1D#32
  | 83 => 0x405A4A71#32
  | 84 => 0x3E397AB1#32
  | 85 => 0x3F0B4A73#32
  | 86 => 0xBF351666#32
  | 87 => 0x3F508553#32
  | 88 => 0xBF3D272A#32
  | 89 => 0x3DF77E56#32
  | 90 => 0xBE1F1C28#32
  | 91 => 0x3F1EA909#32
  | 92 => 0x4073DDA0#32
  | 93 => 0x3F859BEE#32
  | 94 => 0xBD0FB128#32
  | 95 => 0x4009FC20#32
  | 96 => 0x3F440286#32
  | 97 => 0x3D36457C#32
  | 98 => 0x3F949A8C#32
  | 99 => 0x3FA5FCF1#32
  | 100 => 0xBD963FB0#32
  | 101 => 0x3F6E0F8F#32
  | 102 => 0xBDD91DAC#32
  | 103 => 0xBF9CACCF#32
  | 104 => 0x3FBAC98D#32
  | 105 => 0x3FE0D6DD#32
  | 106 => 0x3FC3048E#32
  | 107 => 0x4047E440#32
  | 108 => 0xBEC87A52#32
  | 109 => 0x402DE590#32
  | 110 => 0x3F4AD1F7#32
  | 111 => 0xBF86A24C#32
  | 112 => 0x3EF1729E#32
  | 113 => 0x3F243CCA#32
  | 114 => 0xBF814489#32
  | 115 => 0xBF393188#32
  | 116 => 0x3FA3F57E#32
  | 117 => 0xBE826875#32
  | 118 => 0x3F8CADBC#32
  | 119 => 0xBE2E06C7#32
  | 120 => 0x3F106A0D#32
  | 121 => 0xBEBF955E#32
  | 122 => 0x3EFF1E00#32
  | 123 => 0x3E4E3664#32
  | 124 => 0xBF0D3299#32
  | 125 => 0xBC9E3CBC#32
  | 126 => 0x40096EAE#32
  | 127 => 0x3DB64D01#32
  | _ => 0#32

noncomputable abbrev lit0t0_533 (i : Nat) : BitVec 32 := match i % 128 with
  | 0 => 0x3F934B70#32
  | 1 => 0x3ECD98E6#32
  | 2 => 0xBE42BEBB#32
  | 3 => 0x3C99DEA1#32
  | 4 => 0x3FC61808#32
  | 5 => 0x3FF2B722#32
  | 6 => 0x3F873205#32
  | 7 => 0x4016A8FF#32
  | 8 => 0x3E626A33#32
  | 9 => 0xBCCE7B72#32
  | 10 => 0xBE56E5F9#32
  | 11 => 0x3F2F1F59#32
  | 12 => 0x3F342154#32
  | 13 => 0x3EBBF00A#32
  | 14 => 0xBF06780A#32
  | 15 => 0x3FB03C9C#32
  | 16 => 0xBF8C8CA5#32
  | 17 => 0x3F18F8F8#32
  | 18 => 0xBF7B0D46#32
  | 19 => 0xBD67C80C#32
  | 20 => 0x3FBE63F7#32
  | 21 => 0x3CD23550#32
  | 22 => 0xBE96DE2E#32
  | 23 => 0xBFA0F28B#32
  | 24 => 0xBFC67AF3#32
  | 25 => 0x3E9E2312#32
  | 26 => 0xBF6202E4#32
  | 27 => 0x3FE288E2#32
  | 28 => 0x3EDC1ECE#32
  | 29 => 0x3FBCFF30#32
  | 30 => 0xBF021FEF#32
  | 31 => 0xBEC5745F#32
  | 32 => 0xBE9057CA#32
  | 33 => 0x3FC9485C#32
  | 34 => 0xBF56CEBE#32
  | 35 => 0xBDA7AD52#32
  | 36 => 0x405C0B84#32
  | 37 => 0xBFB0C983#32
  | 38 => 0x3FE2E9BC#32
  | 39 => 0xBE255EDA#32
  | 40 => 0xBEBB990B#32
  | 41 => 0x3F677FF0#32
  | 42 => 0x3EF20A34#32
  | 43 => 0xBE9C206F#32
  | 44 => 0x4039BA21#32
  | 45 => 0x3FE4CC67#32
  | 46 => 0xBE096748#32
  | 47 => 0x3EFE1A0A#32
  | 48 => 0x3FEED985#32
  | 49 => 0x3EEEEB06#32
  | 50 => 0x402E9980#32
  | 51 => 0xBF3E4437#32
  | 52 => 0x3EA91FF5#32
  | 53 => 0xBEA1CB88#32
  | 54 => 0x3F36AAD5#32
  | 55 => 0x3F4AD359#32
  | 56 => 0xBC956EB6#32
  | 57 => 0x403C8C3D#32
  | 58 => 0x3E96C552#32
  | 59 => 0xBF10C2EF#32
  | 60 => 0x3F8DB9D4#32
  | 61 => 0x3EBF64AB#32
  | 62 => 0x3EFDACC9#32
  | 63 => 0x3FA6B5BC#32
  | 64 => 0x3F54A4B2#32
  | 65 => 0xBDBC5637#32
  | 66 => 0x3F708D1C#32
  | 67 => 0x3EC89415#32
  | 68 => 0xBE49F58E#32
  | 69 => 0xBE801F1D#32
  | 70 => 0x404DA6D4#32
  | 71 => 0x3F98A8A5#32
  | 72 => 0x3F952844#32
  | 73 => 0x3F032B63#32
  | 74 => 0xBEA92713#32
  | 75 => 0xBED6B508#32
  | 76 => 0xBF3F2CA6#32
  | 77 => 0x3F51ABA7#32
  | 78 => 0x3E92D28C#32
  | 79 => 0x3F7DD721#32
  | 80 => 0xBF9CC1BC#32
  | 81 => 0x3E1CD77E#32
  | 82 => 0xBF75FA41#32
  | 83 => 0x3E867464#32
  | 84 => 0x3E9FA9B0#32
  | 85 => 0xBF6E1DCE#32
  | 86 => 0x3FB608DA#32
  | 87 => 0x40686E49#32
  | 88 => 0xBF58E55D#32
  | 89 => 0xBE6504F5#32
  | 90 => 0x40259D02#32
  | 91 => 0x3EEA2B26#32
  | 92 => 0xBE579513#32
  | 93 => 0x3F8997A0#32
  | 94 => 0xBE7012E2#32
  | 95 => 0xBDCB519D#32
  | 96 => 0x3EC2D086#32
  | 97 => 0xBF609082#32
  | 98 => 0x404C711B#32
  | 99 => 0xBED4B850#32
  | 100 => 0x3EAF0AC2#32
  | 101 => 0xBE3796B2#32
  | 102 => 0x3F85843E#32
  | 103 => 0xBF1BD961#32
  | 104 => 0xBF75808E#32
  | 105 => 0xBEFA99F0#32
  | 106 => 0x3E49CE13#32
  | 107 => 0xBF181422#32
  | 108 => 0xBED6C014#32
  | 109 => 0xBF1379F1#32
  | 110 => 0x3FCAD3E1#32
  | 111 => 0x3FD4BC0E#32
  | 112 => 0x3E1EAC4E#32
  | 113 => 0x3F92DF3E#32
  | 114 => 0x3F46A442#32
  | 115 => 0x402B90F2#32
  | 116 => 0xBF3379BB#32
  | 117 => 0xBF16CB82#32
  | 118 => 0x3F6B28B0#32
  | 119 => 0x3FD33F85#32
  | 120 => 0x3EAE4CAC#32
  | 121 => 0xBFA0167C#32
  | 122 => 0xBF4B8338#32
  | 123 => 0x3FF71F32#32
  | 124 => 0x3F4F6D30#32
  | 125 => 0x3FDEA736#32
  | 126 => 0x4058B733#32
  | 127 => 0xBF74F606#32
  | _ => 0#32

noncomputable abbrev lit0t0_534 (i : Nat) : BitVec 32 := match i % 128 with
  | 0 => 0xBE9C9686#32
  | 1 => 0xBF25334B#32
  | 2 => 0x3FCBD976#32
  | 3 => 0x40141144#32
  | 4 => 0x3D27B252#32
  | 5 => 0x3FDB7408#32
  | 6 => 0x3FCE9C42#32
  | 7 => 0x3E9E0C3C#32
  | 8 => 0xBE6D2924#32
  | 9 => 0x406D685C#32
  | 10 => 0x3FB1DDC1#32
  | 11 => 0x3E82206C#32
  | 12 => 0x3FC8A38C#32
  | 13 => 0x3EF68F87#32
  | 14 => 0x402DE60A#32
  | 15 => 0x40175957#32
  | 16 => 0x3F36ED11#32
  | 17 => 0xBE235007#32
  | 18 => 0xBEAEBB88#32
  | 19 => 0x3FC7207A#32
  | 20 => 0x3FDB5D01#32
  | 21 => 0xBF605C87#32
  | 22 => 0xBF9FAB28#32
  | 23 => 0x3D7EF7F6#32
  | 24 => 0x405B3D24#32
  | 25 => 0x3F1F0C90#32
  | 26 => 0x3F46DD73#32
  | 27 => 0x3E9DDE1E#32
  | 28 => 0x3F0D7B7E#32
  | 29 => 0x3F98E725#32
  | 30 => 0x3FA5E170#32
  | 31 => 0x3EB7DCF0#32
  | 32 => 0x3E38C3CF#32
  | 33 => 0xBF7CB9C5#32
  | 34 => 0xBF8C993E#32
  | 35 => 0x3F7DE513#32
  | 36 => 0x400E7C40#32
  | 37 => 0x3E1A7EA6#32
  | 38 => 0x3FD6D93E#32
  | 39 => 0xBEFCC214#32
  | 40 => 0xBFA3F375#32
  | 41 => 0x3F683ACE#32
  | 42 => 0x3F9B4595#32
  | 43 => 0x3F5FB79A#32
  | 44 => 0xBF8A43BC#32
  | 45 => 0x3F011EA9#32
  | 46 => 0x402C80E9#32
  | 47 => 0x3FA253A8#32
  | 48 => 0x3FAC9775#32
  | 49 => 0x3EB3A95F#32
  | 50 => 0x3F4DF8D1#32
  | 51 => 0x3F1B5033#32
  | 52 => 0xBDCDA9AB#32
  | 53 => 0x40532CE4#32
  | 54 => 0xBEE3D261#32
  | 55 => 0x400E1476#32
  | 56 => 0xBF99AC79#32
  | 57 => 0x3D0D3CB5#32
  | 58 => 0x3F1B4759#32
  | 59 => 0xBEBE21FB#32
  | 60 => 0x3EAEC56E#32
  | 61 => 0xBF902972#32
  | 62 => 0xBE921CA8#32
  | 63 => 0xBEFFE650#32
  | 64 => 0xBC6C60E0#32
  | 65 => 0xBE81A09B#32
  | 66 => 0x3F8B8A6E#32
  | 67 => 0x3F766514#32
  | 68 => 0x3F84A92E#32
  | 69 => 0x3E5AB7F9#32
  | 70 => 0xBEEE9C14#32
  | 71 => 0x3F6D7C30#32
  | 72 => 0x3D8DAF8D#32
  | 73 => 0x3E5FFA7E#32
  | 74 => 0x404D0314#32
  | 75 => 0xBEC31DC8#32
  | 76 => 0x3F4378D4#32
  | 77 => 0x3FA42166#32
  | 78 => 0x3F90CD2F#32
  | 79 => 0x3F8F3230#32
  | 80 => 0x4024F672#32
  | 81 => 0x3EEC6FD6#32
  | 82 => 0x40443C2D#32
  | 83 => 0x40BB5FBB#32
  | 84 => 0xBF1C49B6#32
  | 85 => 0x3D9499ED#32
  | 86 => 0x3F343E49#32
  | 87 => 0x403DAF5C#32
  | 88 => 0xBF7BFED6#32
  | 89 => 0xBDC94953#32
  | 90 => 0xBF9EE208#32
  | 91 => 0x3F38598B#32
  | 92 => 0x3FE22520#32
  | 93 => 0x40323E4E#32
  | 94 => 0x3EE3F742#32
  | 95 => 0xBFE122EE#32
  | 96 => 0x3F2AFAEE#32
  | 97 => 0xBD603011#32
  | 98 => 0x4008336A#32
  | 99 => 0x400FD906#32
  | 100 => 0x3F08341C#32
  | 101 => 0x3F566B2E#32
  | 102 => 0x3D6C03C2#32
  | 103 => 0x405CB35C#32
  | 104 => 0x3E781B45#32
  | 105 => 0xBFAE1F3F#32
  | 106 => 0x3FF04C5B#32
  | 107 => 0x3E782F14#32
  | 108 => 0x401D5309#32
  | 109 => 0x3EACA9EB#32
  | 110 => 0x4031B025#32
  | 111 => 0x3F9372BA#32
  | 112 => 0x3E217800#32
  | 113 => 0x401EFB4B#32
  | 114 => 0x3F138176#32
  | 115 => 0x3DCC2EE2#32
  | 116 => 0x3FE8228E#32
  | 117 => 0xBF89FEE5#32
  | 118 => 0x3FEC7B46#32
  | 119 => 0x3F7EFDAA#32
  | 120 => 0xBEFE468B#32
  | 121 => 0x3FCABEDD#32
  | 122 => 0x3F747128#32
  | 123 => 0x3F562F1E#32
  | 124 => 0x3FAA8DFA#32
  | 125 => 0x3FC4B46F#32
  | 126 => 0xBE9B1129#32
  | 127 => 0x3FB2FE41#32
  | _ => 0#32

noncomputable abbrev lit0t0_535 (i : Nat) : BitVec 32 := match i % 128 with
  | 0 => 0x3EA2D023#32
  | 1 => 0xBF4D458D#32
  | 2 => 0x400EA9E4#32
  | 3 => 0xBF581E37#32
  | 4 => 0x3F83BA7E#32
  | 5 => 0x3FC1FFC2#32
  | 6 => 0x4008DC01#32
  | 7 => 0xBE3140BB#32
  | 8 => 0x3FE74F34#32
  | 9 => 0x3F8F1F69#32
  | 10 => 0x405044A8#32
  | 11 => 0x3F97756B#32
  | 12 => 0xBF8AB0DC#32
  | 13 => 0xBF234E0B#32
  | 14 => 0x3F0B6339#32
  | 15 => 0x3F7FB02E#32
  | 16 => 0x3D4E7BF2#32
  | 17 => 0x3EA56801#32
  | 18 => 0x3F3EE414#32
  | 19 => 0x3F108914#32
  | 20 => 0x3F220FA4#32
  | 21 => 0x3F6CCC21#32
  | 22 => 0x3FC846CA#32
  | 23 => 0x4015191E#32
  | 24 => 0xBF29901F#32
  | 25 => 0xBF2159CB#32
  | 26 => 0x3F85FC21#32
  | 27 => 0x3E7287D0#32
  | 28 => 0x3F1F7C4B#32
  | 29 => 0x3F023903#32
  | 30 => 0xBDD52C03#32
  | 31 => 0xBFC99CDB#32
  | 32 => 0x3FAA32C3#32
  | 33 => 0x3F9BB37C#32
  | 34 => 0xBF618D50#32
  | 35 => 0x3F439766#32
  | 36 => 0x403A914B#32
  | 37 => 0xBF112A07#32
  | 38 => 0x3F5C238A#32
  | 39 => 0x3FBE1D4A#32
  | 40 => 0xBD980018#32
  | 41 => 0xBF820BEA#32
  | 42 => 0xBECC1941#32
  | 43 => 0x3F386188#32
  | 44 => 0x3EDA4DE4#32
  | 45 => 0x3FA05152#32
  | 46 => 0xBEAFCEF5#32
  | 47 => 0x3EEDA268#32
  | 48 => 0xBE83C91C#32
  | 49 => 0x3FCC8E80#32
  | 50 => 0x4001ACA6#32
  | 51 => 0xBE9642C8#32
  | 52 => 0xBF921177#32
  | 53 => 0x4096F320#32
  | 54 => 0x3F8481C1#32
  | 55 => 0x40177617#32
  | 56 => 0xBF45414C#32
  | 57 => 0xBEB5A7BC#32
  | 58 => 0xBF110F38#32
  | 59 => 0xBE235F45#32
  | 60 => 0x3EC9077C#32
  | 61 => 0xBDA0B6DD#32
  | 62 => 0x3F18B6EF#32
  | 63 => 0x3F7E9E68#32
  | 64 => 0x40245637#32
  | 65 => 0xBF9B0550#32
  | 66 => 0xBF8322C3#32
  | 67 => 0x3FCC90E9#32
  | 68 => 0x3FC6D8F8#32
  | 69 => 0x3E8E8970#32
  | 70 => 0x3F347763#32
  | 71 => 0x3E3DE45D#32
  | 72 => 0x3FC50539#32
  | 73 => 0x3FE5099E#32
  | 74 => 0x3F5FEA5D#32
  | 75 => 0x3F671C4A#32
  | 76 => 0xBEDDE2F6#32
  | 77 => 0x3F56C4F0#32
  | 78 => 0x3EA54117#32
  | 79 => 0x3D8F673D#32
  | 80 => 0x402F9DF4#32
  | 81 => 0x3F0B15EE#32
  | 82 => 0x3FA6D46D#32
  | 83 => 0x3F9B69E9#32
  | 84 => 0x3FDFB6B5#32
  | 85 => 0x3F9301A7#32
  | 86 => 0xBF61927C#32
  | 87 => 0x3EB0493F#32
  | 88 => 0x4031B295#32
  | 89 => 0x3BF47EEE#32
  | 90 => 0xBF790F94#32
  | 91 => 0x40336D33#32
  | 92 => 0x3F2C3E48#32
  | 93 => 0xBD48B3E3#32
  | 94 => 0x404A11EF#32
  | 95 => 0xBDEDA3FD#32
  | 96 => 0xBF3D15E0#32
  | 97 => 0xBF6589BD#32
  | 98 => 0xBEAB99EE#32
  | 99 => 0x3F9C21F4#32
  | 100 => 0x408699C3#32
  | 101 => 0xBEFA35AA#32
  | 102 => 0xBF62AA6B#32
  | 103 => 0xBE669DE2#32
  | 104 => 0x4002FFA9#32
  | 105 => 0xBEC830D5#32
  | 106 => 0x3F65C05B#32
  | 107 => 0xBF2B9B4D#32
  | 108 => 0x3BE2FED0#32
  | 109 => 0x3E113302#32
  | 110 => 0x40D55C20#32
  | 111 => 0x3F11BFED#32
  | 112 => 0x3F5BFC0F#32
  | 113 => 0x3FEEBC79#32
  | 114 => 0x40119C48#32
  | 115 => 0x3F0253B4#32
  | 116 => 0xBED6432E#32
  | 117 => 0x3EF54797#32
  | 118 => 0x40077475#32
  | 119 => 0xBF7AA9B6#32
  | 120 => 0x3FA8B79B#32
  | 121 => 0x3FA9AA1F#32
  | 122 => 0xBDFF99F1#32
  | 123 => 0x403123A2#32
  | 124 => 0x3C1BC270#32
  | 125 => 0x3ED550CD#32
  | 126 => 0xBFA2F033#32
  | 127 => 0x401B72CA#32
  | _ => 0#32

noncomputable abbrev lit0t0_536 (i : Nat) : BitVec 32 := match i % 128 with
  | 0 => 0xBF3CE908#32
  | 1 => 0x400AE7F9#32
  | 2 => 0xBD0B51E0#32
  | 3 => 0x3F383A12#32
  | 4 => 0x3D6E73F2#32
  | 5 => 0xBE04A4E3#32
  | 6 => 0x3C25F430#32
  | 7 => 0xBF467123#32
  | 8 => 0x3EB6E247#32
  | 9 => 0x3FAE9B0E#32
  | 10 => 0xBF43E9B8#32
  | 11 => 0xBDE19A23#32
  | 12 => 0x402C3404#32
  | 13 => 0xBFC805A6#32
  | 14 => 0x3F76D918#32
  | 15 => 0x408308C6#32
  | 16 => 0x3F397867#32
  | 17 => 0x3F44EF92#32
  | 18 => 0xBF0C5058#32
  | 19 => 0xBF02155B#32
  | 20 => 0x3F93E9B0#32
  | 21 => 0x3EA6D890#32
  | 22 => 0x3E0F9DCD#32
  | 23 => 0x3FD11A31#32
  | 24 => 0x4050AB61#32
  | 25 => 0x3F2B5071#32
  | 26 => 0x3F66B8F8#32
  | 27 => 0xBF0FD48C#32
  | 28 => 0xBDBB4C34#32
  | 29 => 0xBF67346A#32
  | 30 => 0x3EB04D6B#32
  | 31 => 0x3FB4E082#32
  | 32 => 0x3E9E1437#32
  | 33 => 0x4018B163#32
  | 34 => 0xBFCE709B#32
  | 35 => 0xBFB18AA2#32
  | 36 => 0x3EA3A71F#32
  | 37 => 0x3FB8BB78#32
  | 38 => 0x3FEAD80D#32
  | 39 => 0x3EB2F260#32
  | 40 => 0x3FE44337#32
  | 41 => 0x3EFEEDE4#32
  | 42 => 0xBE52FA84#32
  | 43 => 0xBEF89654#32
  | 44 => 0x3F07DF16#32
  | 45 => 0xBEFE94B4#32
  | 46 => 0x3E8604B3#32
  | 47 => 0x3F1378C3#32
  | 48 => 0x3E6E1395#32
  | 49 => 0x3F09073C#32
  | 50 => 0xBEB44E9D#32
  | 51 => 0xBF1CD468#32
  | 52 => 0xBF0BE3CC#32
  | 53 => 0x3F9ED182#32
  | 54 => 0xBF0BD100#32
  | 55 => 0x3D3C0CAD#32
  | 56 => 0x3D645F50#32
  | 57 => 0xBEA71945#32
  | 58 => 0x3FA4633C#32
  | 59 => 0x3F864E2F#32
  | 60 => 0x3FFC1923#32
  | 61 => 0x400CA560#32
  | 62 => 0xBF1270D8#32
  | 63 => 0xBE90FC94#32
  | 64 => 0x3F56B6EF#32
  | 65 => 0xBE5DE40C#32
  | 66 => 0xBFA2E493#32
  | 67 => 0xBF3FCEB0#32
  | 68 => 0x3E2F3BD2#32
  | 69 => 0xBF00017F#32
  | 70 => 0x40452A06#32
  | 71 => 0x40974E1C#32
  | 72 => 0xBEC4EE8E#32
  | 73 => 0x3F732AEA#32
  | 74 => 0xBF857A3C#32
  | 75 => 0x3FC5927D#32
  | 76 => 0xBE35A849#32
  | 77 => 0x3F4BEF46#32
  | 78 => 0xBC419D7A#32
  | 79 => 0x3F7740DA#32
  | 80 => 0xBEC05AE4#32
  | 81 => 0x3FE3EC12#32
  | 82 => 0xBF3EA936#32
  | 83 => 0xBF0E58E2#32
  | 84 => 0xBF8FCF1A#32
  | 85 => 0x3F704E28#32
  | 86 => 0x3E2C3C10#32
  | 87 => 0x3FD82435#32
  | 88 => 0xBEE0FBB3#32
  | 89 => 0xBD77C092#32
  | 90 => 0x40850D47#32
  | 91 => 0xBF3E8F70#32
  | 92 => 0xBBE08F91#32
  | 93 => 0x3FF86EF1#32
  | 94 => 0x3FE527FF#32
  | 95 => 0x3C773385#32
  | 96 => 0xBEAD3A22#32
  | 97 => 0xBF81E312#32
  | 98 => 0xBE51921C#32
  | 99 => 0xBE10843A#32
  | 100 => 0x3FBA79D9#32
  | 101 => 0x3C8981CC#32
  | 102 => 0x3DA0F1DC#32
  | 103 => 0xBF359C55#32
  | 104 => 0x3F8F26EA#32
  | 105 => 0xBEF03625#32
  | 106 => 0x3F10D904#32
  | 107 => 0x3EC529DA#32
  | 108 => 0x3FC2C865#32
  | 109 => 0x3F0AB62C#32
  | 110 => 0x3FFF3267#32
  | 111 => 0x3EA9058F#32
  | 112 => 0xBE827BD2#32
  | 113 => 0x404D0F66#32
  | 114 => 0xBF382742#32
  | 115 => 0xBF0020E0#32
  | 116 => 0xBD203747#32
  | 117 => 0xBDEC750A#32
  | 118 => 0xBB4C3E70#32
  | 119 => 0x3CDF186C#32
  | 120 => 0x3FCE55E5#32
  | 121 => 0x3F99A50D#32
  | 122 => 0x3F1BD7C6#32
  | 123 => 0x3FAF4847#32
  | 124 => 0x4006A5DE#32
  | 125 => 0x3F7EA1E6#32
  | 126 => 0x3FE7AC2B#32
  | 127 => 0xBE2B667B#32
  | _ => 0#32

noncomputable abbrev lit0t0_537 (i : Nat) : BitVec 32 := match i % 128 with
  | 0 => 0xBF153EFA#32
  | 1 => 0xBEDCBA02#32
  | 2 => 0x402505F6#32
  | 3 => 0x3FCD7B3A#32
  | 4 => 0x4022635A#32
  | 5 => 0x3FEF5BFE#32
  | 6 => 0x3FFD0F4E#32
  | 7 => 0xBD08BA3F#32
  | 8 => 0x3D1DA62B#32
  | 9 => 0xBF073C54#32
  | 10 => 0xBEBF1A21#32
  | 11 => 0x3F385151#32
  | 12 => 0xBF7B1B5A#32
  | 13 => 0x3F3F6BEB#32
  | 14 => 0x40024A31#32
  | 15 => 0xBF571E1D#32
  | 16 => 0x3EFC2A68#32
  | 17 => 0xBE2DE66D#32
  | 18 => 0x3D51775E#32
  | 19 => 0x40929F6A#32
  | 20 => 0xBF035463#32
  | 21 => 0x3E8F482F#32
  | 22 => 0xBFB02606#32
  | 23 => 0x3EDBB7FE#32
  | 24 => 0xBF2539AA#32
  | 25 => 0xBF9AEF1E#32
  | 26 => 0x3F621662#32
  | 27 => 0xBF1E10F5#32
  | 28 => 0x3F906BAE#32
  | 29 => 0x3E8FB68C#32
  | 30 => 0x3EC7D4CE#32
  | 31 => 0xBEDC11D4#32
  | 32 => 0x3F71A31B#32
  | 33 => 0x401A7238#32
  | 34 => 0xBF767F8A#32
  | 35 => 0x40159931#32
  | 36 => 0x3F88E1E1#32
  | 37 => 0x3F0EA588#32
  | 38 => 0x3FD69D0E#32
  | 39 => 0x3E8FD568#32
  | 40 => 0x405AE2A3#32
  | 41 => 0xBF5C4EB0#32
  | 42 => 0x3F00196B#32
  | 43 => 0x3EBEF51F#32
  | 44 => 0xBEDC6EA6#32
  | 45 => 0x401E8949#32
  | 46 => 0x3F6C8412#32
  | 47 => 0x3E5CFF0A#32
  | 48 => 0x3F47749B#32
  | 49 => 0x3F46FDE8#32
  | 50 => 0xBE5882AC#32
  | 51 => 0xBF40E5BF#32
  | 52 => 0xBFC1B875#32
  | 53 => 0xBF3AC361#32
  | 54 => 0x3FAB27D1#32
  | 55 => 0x3F575604#32
  | 56 => 0xBE1F13D0#32
  | 57 => 0x4009E141#32
  | 58 => 0xBF97705D#32
  | 59 => 0xBF32F49C#32
  | 60 => 0x3E932C62#32
  | 61 => 0x3F44BB5A#32
  | 62 => 0x3F1545E0#32
  | 63 => 0xBF611148#32
  | 64 => 0xBF671160#32
  | 65 => 0x3FF51FC6#32
  | 66 => 0x3F6CD01C#32
  | 67 => 0x3FECD9AE#32
  | 68 => 0xBEE66E14#32
  | 69 => 0x4017CFDE#32
  | 70 => 0x3E1171B1#32
  | 71 => 0x3DCFE08B#32
  | 72 => 0x4010C225#32
  | 73 => 0xBC8DAA9A#32
  | 74 => 0x3F04367E#32
  | 75 => 0x403BFF1F#32
  | 76 => 0xBDC22B7C#32
  | 77 => 0x3FCC69B5#32
  | 78 => 0xBF5AB9B0#32
  | 79 => 0x3F4B6ABF#32
  | 80 => 0x3FD6B2CB#32
  | 81 => 0x4036A430#32
  | 82 => 0x3FD168FA#32
  | 83 => 0x3E93396F#32
  | 84 => 0xBF69FC52#32
  | 85 => 0x3F9074BF#32
  | 86 => 0x3E9D7EED#32
  | 87 => 0x3EF323C9#32
  | 88 => 0x3F8F15C9#32
  | 89 => 0x40FFD341#32
  | 90 => 0x3E91E958#32
  | 91 => 0x3F8A3778#32
  | 92 => 0x3F0A0D2C#32
  | 93 => 0xBF033D4C#32
  | 94 => 0x3C621172#32
  | 95 => 0x3F4552D1#32
  | 96 => 0xBE723DE1#32
  | 97 => 0x3DCE0BDF#32
  | 98 => 0x3F30A695#32
  | 99 => 0x3F5B3D43#32
  | 100 => 0x3FB71C80#32
  | 101 => 0x40684921#32
  | 102 => 0x4027F765#32
  | 103 => 0x405A1979#32
  | 104 => 0x3F8716B7#32
  | 105 => 0x3EE7D234#32
  | 106 => 0x3F8449EC#32
  | 107 => 0x401A4304#32
  | 108 => 0xBE8EAECA#32
  | 109 => 0xBF5C8DC2#32
  | 110 => 0xBD11A73C#32
  | 111 => 0xBF26872A#32
  | 112 => 0x3EFA10D8#32
  | 113 => 0xBD984D9E#32
  | 114 => 0x3E3C7E4E#32
  | 115 => 0xBE91F170#32
  | 116 => 0x405482CD#32
  | 117 => 0x3FCA66B7#32
  | 118 => 0xBF1B9716#32
  | 119 => 0xBF0EAD2A#32
  | 120 => 0x3FCA44FA#32
  | 121 => 0xBE2F4996#32
  | 122 => 0xBF317936#32
  | 123 => 0xBF69E322#32
  | 124 => 0x3F43475C#32
  | 125 => 0x3F95F082#32
  | 126 => 0x3E177B94#32
  | 127 => 0x3EA3A334#32
  | _ => 0#32

noncomputable abbrev lit0t0_538 (i : Nat) : BitVec 32 := match i % 128 with
  | 0 => 0xBE9F04EF#32
  | 1 => 0xBEE360B6#32
  | 2 => 0x3F4C44D2#32
  | 3 => 0xBFC1FFE2#32
  | 4 => 0x3F2BBDAD#32
  | 5 => 0x3D580777#32
  | 6 => 0xBE91BC67#32
  | 7 => 0x3F89B11A#32
  | 8 => 0x4085126A#32
  | 9 => 0xBF926D5F#32
  | 10 => 0x3E252047#32
  | 11 => 0x3E73A9BD#32
  | 12 => 0x3F47A2A0#32
  | 13 => 0xBF32C2CE#32
  | 14 => 0xBEAF09D1#32
  | 15 => 0x3F3DBD52#32
  | 16 => 0x400EC972#32
  | 17 => 0x3DD04E83#32
  | 18 => 0xBF95F59C#32
  | 19 => 0x3DE275FE#32
  | 20 => 0x3E2529C0#32
  | 21 => 0xBF044E37#32
  | 22 => 0x3DCE1595#32
  | 23 => 0x3E4452FD#32
  | 24 => 0xBD1E91A2#32
  | 25 => 0xBED86192#32
  | 26 => 0xBEDAA5D3#32
  | 27 => 0xBF8BA3B6#32
  | 28 => 0xBFC84B27#32
  | 29 => 0x3D8F4D5D#32
  | 30 => 0x3F7CD5DB#32
  | 31 => 0x3B1B6721#32
  | 32 => 0x3F4255C6#32
  | 33 => 0x40BD9D34#32
  | 34 => 0xBFD16926#32
  | 35 => 0x40B9C060#32
  | 36 => 0x3F845FF5#32
  | 37 => 0x4003C926#32
  | 38 => 0x3F084976#32
  | 39 => 0x3E84F55E#32
  | 40 => 0x3F07076B#32
  | 41 => 0x3E58BCA0#32
  | 42 => 0x3D83B87C#32
  | 43 => 0x3FCFE578#32
  | 44 => 0x3EE3B006#32
  | 45 => 0x3F5D66A7#32
  | 46 => 0x3E290BB0#32
  | 47 => 0xBF33DCF0#32
  | 48 => 0x3F542077#32
  | 49 => 0x3F21EC58#32
  | 50 => 0xBF015429#32
  | 51 => 0x3F58D0B4#32
  | 52 => 0xBF8A8C8C#32
  | 53 => 0xBEFFD2A6#32
  | 54 => 0x3F849CAF#32
  | 55 => 0x3EC0797A#32
  | 56 => 0x3E42A690#32
  | 57 => 0x3EB96F0A#32
  | 58 => 0x3FAB7851#32
  | 59 => 0x3F14F10C#32
  | 60 => 0xBF1DF2AA#32
  | 61 => 0x3FA1D96C#32
  | 62 => 0xBF942E12#32
  | 63 => 0x3F8ADB69#32
  | 64 => 0x3F2204EE#32
  | 65 => 0x400196F2#32
  | 66 => 0x3F09E715#32
  | 67 => 0x40327482#32
  | 68 => 0xBFD4803A#32
  | 69 => 0x3F00B7F1#32
  | 70 => 0x3F87AAEF#32
  | 71 => 0x3E807704#32
  | 72 => 0x3E42C8C5#32
  | 73 => 0xBEFCC792#32
  | 74 => 0x409CCB03#32
  | 75 => 0xBE05380D#32
  | 76 => 0x40259DCC#32
  | 77 => 0x40293396#32
  | 78 => 0x3F94A9AE#32
  | 79 => 0xBF5838E7#32
  | 80 => 0xBD8E9D3C#32
  | 81 => 0x40107F2D#32
  | 82 => 0xBF889224#32
  | 83 => 0x3F6C8DD8#32
  | 84 => 0x3F542DCF#32
  | 85 => 0x3F935BD7#32
  | 86 => 0xBFC6A209#32
  | 87 => 0x3E9FBEB9#32
  | 88 => 0xBEA615FA#32
  | 89 => 0x3F2B0830#32
  | 90 => 0xBCEC07DA#32
  | 91 => 0x3DBD9CB7#32
  | 92 => 0x3FB7AB8C#32
  | 93 => 0x3F109180#32
  | 94 => 0xBFD9790B#32
  | 95 => 0x3D21BF8C#32
  | 96 => 0x3DAA17FC#32
  | 97 => 0x3F0C3563#32
  | 98 => 0x3FB0E508#32
  | 99 => 0x3FDE0647#32
  | 100 => 0xBF1ABEEC#32
  | 101 => 0x3FFB5679#32
  | 102 => 0x4036EA98#32
  | 103 => 0x3E7AF634#32
  | 104 => 0x40461B07#32
  | 105 => 0x3F057723#32
  | 106 => 0x400BCD32#32
  | 107 => 0x3FD7F17A#32
  | 108 => 0x3EC7F8D2#32
  | 109 => 0x3E8AC56D#32
  | 110 => 0xBD72D81E#32
  | 111 => 0xBF14AB53#32
  | 112 => 0xBF714A6A#32
  | 113 => 0xBE7A536A#32
  | 114 => 0xBF0A38E1#32
  | 115 => 0x3ECEC397#32
  | 116 => 0x3FB3B457#32
  | 117 => 0x3FBC880C#32
  | 118 => 0xBEF87C5A#32
  | 119 => 0xBF4B8D54#32
  | 120 => 0xBEA78EFB#32
  | 121 => 0xBF26B6B2#32
  | 122 => 0x3F6F5104#32
  | 123 => 0x3E5BACB1#32
  | 124 => 0x3FA46AB2#32
  | 125 => 0x3E4DB21F#32
  | 126 => 0x408400A2#32
  | 127 => 0x3F5088EC#32
  | _ => 0#32

noncomputable abbrev lit0t0_539 (i : Nat) : BitVec 32 := match i % 128 with
  | 0 => 0x403001E4#32
  | 1 => 0xBF1351D0#32
  | 2 => 0x3F5ED0CA#32
  | 3 => 0x3F20E9B8#32
  | 4 => 0x3F761229#32
  | 5 => 0xBEA2F55E#32
  | 6 => 0x3E7C742F#32
  | 7 => 0xBF186734#32
  | 8 => 0x3D1F4464#32
  | 9 => 0x3F50D2F4#32
  | 10 => 0xBE9F5E93#32
  | 11 => 0x3F91CB7E#32
  | 12 => 0x40183A11#32
  | 13 => 0x3FA9AED7#32
  | 14 => 0xBF0697D9#32
  | 15 => 0x3ED41963#32
  | 16 => 0x3F22615E#32
  | 17 => 0x3E2569FB#32
  | 18 => 0xBFE986D4#32
  | 19 => 0xBF3E0B5A#32
  | 20 => 0x3E80577E#32
  | 21 => 0xBEE550A3#32
  | 22 => 0x3E288CAF#32
  | 23 => 0xBF09D096#32
  | 24 => 0xBF0F7C96#32
  | 25 => 0x403DCE06#32
  | 26 => 0x3F21158B#32
  | 27 => 0xBF4ACEDA#32
  | 28 => 0xBF8B448F#32
  | 29 => 0x402ADB72#32
  | 30 => 0x3FA0EB44#32
  | 31 => 0xBFB8811F#32
  | 32 => 0xBF6D4850#32
  | 33 => 0xBF4D672C#32
  | 34 => 0x3EC0B81D#32
  | 35 => 0xBF3FB470#32
  | 36 => 0xBF78CB4F#32
  | 37 => 0x3F83CCFF#32
  | 38 => 0x3F86CF2C#32
  | 39 => 0xBF829A89#32
  | 40 => 0xBECC45E0#32
  | 41 => 0x40EF029A#32
  | 42 => 0x3F818179#32
  | 43 => 0xBEC9E030#32
  | 44 => 0x3FBECB5F#32
  | 45 => 0xBF5E8E2A#32
  | 46 => 0xBF735FFF#32
  | 47 => 0xBEE42BB0#32
  | 48 => 0x407121BD#32
  | 49 => 0x4047C7CD#32
  | 50 => 0xBF1CA11A#32
  | 51 => 0xBE9B15C4#32
  | 52 => 0x3FF14B85#32
  | 53 => 0xBE47E78F#32
  | 54 => 0x3F139B76#32
  | 55 => 0xBF5B7586#32
  | 56 => 0x3F2532EE#32
  | 57 => 0x3E53E6F6#32
  | 58 => 0x4068CCCE#32
  | 59 => 0x3EC0A122#32
  | 60 => 0xBF6D3209#32
  | 61 => 0xBEFEAA4D#32
  | 62 => 0x4019579E#32
  | 63 => 0xBC802514#32
  | 64 => 0x403B2004#32
  | 65 => 0x3F38016D#32
  | 66 => 0x40112720#32
  | 67 => 0xBE51727A#32
  | 68 => 0x3F912FEF#32
  | 69 => 0xBF999C27#32
  | 70 => 0x4002F7F3#32
  | 71 => 0x400143D0#32
  | 72 => 0x3F306AF9#32
  | 73 => 0x4012FC3D#32
  | 74 => 0xBF22ABE1#32
  | 75 => 0x403AC977#32
  | 76 => 0xBF886E17#32
  | 77 => 0x3FC82892#32
  | 78 => 0xBE0295B2#32
  | 79 => 0x3E8E3550#32
  | 80 => 0xBE897813#32
  | 81 => 0x3FBDE97C#32
  | 82 => 0x3E6C1E15#32
  | 83 => 0x408A7E58#32
  | 84 => 0x3DA4BC8E#32
  | 85 => 0xBE46788D#32
  | 86 => 0xBF841A65#32
  | 87 => 0xBF1F6926#32
  | 88 => 0x3F2751B9#32
  | 89 => 0xBFBE1A30#32
  | 90 => 0x3F318DE5#32
  | 91 => 0x3DE933FF#32
  | 92 => 0xBF6E08BE#32
  | 93 => 0x3EBF2F71#32
  | 94 => 0x3FC7D3CC#32
  | 95 => 0x3F2028AA#32
  | 96 => 0xBE6E70D9#32
  | 97 => 0x3FC531ED#32
  | 98 => 0xBFD7BAD0#32
  | 99 => 0x3FCAC068#32
  | 100 => 0x3F64F582#32
  | 101 => 0xBFEB50A4#32
  | 102 => 0x3F660F30#32
  | 103 => 0x3F1E7C10#32
  | 104 => 0xBEC8D91B#32
  | 105 => 0xBF3799E7#32
  | 106 => 0xBEAAC67A#32
  | 107 => 0xBF2D7A19#32
  | 108 => 0x3F3D9086#32
  | 109 => 0xBF533265#32
  | 110 => 0x3FAD998B#32
  | 111 => 0x3FA7D701#32
  | 112 => 0xBF315352#32
  | 113 => 0x3D3B73F5#32
  | 114 => 0xBEAD0F07#32
  | 115 => 0x3FDD6B92#32
  | 116 => 0xBE8BA2E7#32
  | 117 => 0x3F6CADD8#32
  | 118 => 0x3DA366E0#32
  | 119 => 0x400D3FAF#32
  | 120 => 0x3E7DF758#32
  | 121 => 0x3DBD76D6#32
  | 122 => 0xBFC582B3#32
  | 123 => 0x3FF82DF4#32
  | 124 => 0x3C2434F4#32
  | 125 => 0x3E127F4A#32
  | 126 => 0x3F40FA8B#32
  | 127 => 0x3E23009B#32
  | _ => 0#32

noncomputable abbrev lit0t0_540 (i : Nat) : BitVec 32 := match i % 128 with
  | 0 => 0x40008D95#32
  | 1 => 0x3FD12040#32
  | 2 => 0x3EAA0417#32
  | 3 => 0xBEDAEB2E#32
  | 4 => 0xBF9A509C#32
  | 5 => 0x3EA7DE4A#32
  | 6 => 0xBE82ACB6#32
  | 7 => 0xBF828584#32
  | 8 => 0x3FE631D9#32
  | 9 => 0x40091BA4#32
  | 10 => 0xBF23A65C#32
  | 11 => 0xBF51CDC8#32
  | 12 => 0x3EBDBEE3#32
  | 13 => 0xBF270DDD#32
  | 14 => 0xBF2E30EE#32
  | 15 => 0x3F5E4D51#32
  | 16 => 0xBDC56A9C#32
  | 17 => 0xBF485475#32
  | 18 => 0xBF5A3DC1#32
  | 19 => 0x3E41A8A5#32
  | 20 => 0x4065D065#32
  | 21 => 0x3EBB6C6E#32
  | 22 => 0x3F7236DA#32
  | 23 => 0xBDAA3C23#32
  | 24 => 0x3F10BBD1#32
  | 25 => 0x3FE3CA43#32
  | 26 => 0x3FFBD6FB#32
  | 27 => 0x3FBF8EAF#32
  | 28 => 0xBFBBDC26#32
  | 29 => 0x3F36950D#32
  | 30 => 0x4031833D#32
  | 31 => 0x40062892#32
  | 32 => 0xBEC63756#32
  | 33 => 0xBE9EFF55#32
  | 34 => 0x408AD78A#32
  | 35 => 0x404FAEA3#32
  | 36 => 0x3EC0D65C#32
  | 37 => 0x3FFBDBFF#32
  | 38 => 0xBF3B69B9#32
  | 39 => 0x3EA9B916#32
  | 40 => 0x3F9DB489#32
  | 41 => 0x3F6041B4#32
  | 42 => 0x3EFB2B2A#32
  | 43 => 0x3F86AD95#32
  | 44 => 0xBF03583C#32
  | 45 => 0xBEBA311D#32
  | 46 => 0xBED9AD20#32
  | 47 => 0x401128E2#32
  | 48 => 0x3F5D1160#32
  | 49 => 0x3F7C6254#32
  | 50 => 0xBF89D3E6#32
  | 51 => 0x3F2CE793#32
  | 52 => 0x400983C8#32
  | 53 => 0x4033942F#32
  | 54 => 0x3F04606B#32
  | 55 => 0xBEBA7E06#32
  | 56 => 0xBDD8C475#32
  | 57 => 0xBF9C35D6#32
  | 58 => 0xBF83AA7A#32
  | 59 => 0x3F98CEBA#32
  | 60 => 0x40591C58#32
  | 61 => 0x4050D275#32
  | 62 => 0xBFBB45BC#32
  | 63 => 0xBF2623A5#32
  | 64 => 0xBE0358AF#32
  | 65 => 0xBF646668#32
  | 66 => 0x408DBAD8#32
  | 67 => 0x3EE0D760#32
  | 68 => 0x3FD5F081#32
  | 69 => 0x40413241#32
  | 70 => 0x3F3B3DB8#32
  | 71 => 0xBEFBFD19#32
  | 72 => 0x3F995F4F#32
  | 73 => 0x3F8260E4#32
  | 74 => 0xBE3B5220#32
  | 75 => 0xBF8B1914#32
  | 76 => 0x3F2A4481#32
  | 77 => 0xBE1DD4D1#32
  | 78 => 0x3FD26282#32
  | 79 => 0xBF4E8F4E#32
  | 80 => 0x3ED98167#32
  | 81 => 0x3F8A9FF0#32
  | 82 => 0x40050A9F#32
  | 83 => 0x3F200F1D#32
  | 84 => 0xBEF4E0E4#32
  | 85 => 0x3EDA5670#32
  | 86 => 0x3F03C2B4#32
  | 87 => 0x3F7B322C#32
  | 88 => 0xBEB6E84D#32
  | 89 => 0x3F7E5864#32
  | 90 => 0x4023E349#32
  | 91 => 0x3F5D4D20#32
  | 92 => 0x4015C711#32
  | 93 => 0xBEFD885E#32
  | 94 => 0xBF860F9A#32
  | 95 => 0x3FBC8DE6#32
  | 96 => 0x3FF8E4FE#32
  | 97 => 0x3E30D1FD#32
  | 98 => 0x3FF331BD#32
  | 99 => 0x3F9F9218#32
  | 100 => 0x3DA63D3B#32
  | 101 => 0x3F237DB1#32
  | 102 => 0x3F954970#32
  | 103 => 0x406798C7#32
  | 104 => 0x3D54E637#32
  | 105 => 0xBF820475#32
  | 106 => 0xBE3C3FCA#32
  | 107 => 0x3EFA7B7F#32
  | 108 => 0x3EBBD565#32
  | 109 => 0x3F63D88D#32
  | 110 => 0x3EC50BF7#32
  | 111 => 0x3F95F976#32
  | 112 => 0xBE56599C#32
  | 113 => 0x400E6E01#32
  | 114 => 0x3EAD8CFB#32
  | 115 => 0x3FA7B71C#32
  | 116 => 0x3FD350E0#32
  | 117 => 0x3EBEC357#32
  | 118 => 0x40A0AE73#32
  | 119 => 0xBE29B895#32
  | 120 => 0x3DD19E8C#32
  | 121 => 0x3FC9BF28#32
  | 122 => 0x4045153E#32
  | 123 => 0xBF6D2854#32
  | 124 => 0x3F66DE74#32
  | 125 => 0x409C94C4#32
  | 126 => 0xBFAFD0F0#32
  | 127 => 0xBFDA4E4F#32
  | _ => 0#32

noncomputable abbrev lit0t0_541 (i : Nat) : BitVec 32 := match i % 128 with
  | 0 => 0xBE9DFC96#32
  | 1 => 0x3EE92DEE#32
  | 2 => 0x400F057D#32
  | 3 => 0xBF04705B#32
  | 4 => 0x401CA17B#32
  | 5 => 0xBD55F6FB#32
  | 6 => 0x3FC9D4B2#32
  | 7 => 0x400ABCDD#32
  | 8 => 0x3F28A4EA#32
  | 9 => 0x3EEE7826#32
  | 10 => 0x3F5FB226#32
  | 11 => 0xBF583129#32
  | 12 => 0x4049649D#32
  | 13 => 0x400F4161#32
  | 14 => 0x40870CB2#32
  | 15 => 0xBFBAD540#32
  | 16 => 0x3F549D67#32
  | 17 => 0x4061B9DD#32
  | 18 => 0x3E8521E1#32
  | 19 => 0xBEB74570#32
  | 20 => 0x3E3A7479#32
  | 21 => 0x3FD1F948#32
  | 22 => 0xBEA3B8F5#32
  | 23 => 0xBF50514B#32
  | 24 => 0x406E76AE#32
  | 25 => 0x3F052CFC#32
  | 26 => 0x3F55A869#32
  | 27 => 0x3F8E1B31#32
  | 28 => 0xBE873152#32
  | 29 => 0x3EE597CE#32
  | 30 => 0x3FEA2929#32
  | 31 => 0x3F9A5F62#32
  | 32 => 0x3FA22F2D#32
  | 33 => 0xBEC897E7#32
  | 34 => 0x3DA17FFF#32
  | 35 => 0x3DCAE077#32
  | 36 => 0x3F72249B#32
  | 37 => 0xBAD26CBD#32
  | 38 => 0x3F3F2C29#32
  | 39 => 0x3F4C76E9#32
  | 40 => 0x401160C7#32
  | 41 => 0x3FC3A4A5#32
  | 42 => 0x3EA91A41#32
  | 43 => 0x3F11060D#32
  | 44 => 0xBF0E6F8A#32
  | 45 => 0x4015007E#32
  | 46 => 0x4040B077#32
  | 47 => 0x4010D1D7#32
  | 48 => 0x3F8CA6D0#32
  | 49 => 0xBF3DD1C8#32
  | 50 => 0x3D57C7D3#32
  | 51 => 0x3E734948#32
  | 52 => 0xBF66DF74#32
  | 53 => 0xBCFF09CD#32
  | 54 => 0x3F2A29CF#32
  | 55 => 0xBFA1AB42#32
  | 56 => 0x3D8E9C6F#32
  | 57 => 0x3F510EE5#32
  | 58 => 0x4090C304#32
  | 59 => 0xBF3AF86E#32
  | 60 => 0x3F97DE7D#32
  | 61 => 0x3ED3B6F6#32
  | 62 => 0xBE9005CE#32
  | 63 => 0xBF8E653E#32
  | 64 => 0xBFA61310#32
  | 65 => 0x403CEFFE#32
  | 66 => 0xBDCEA303#32
  | 67 => 0x3FB23D3B#32
  | 68 => 0xBD9A145C#32
  | 69 => 0xBF4F87EB#32
  | 70 => 0x3E36F63A#32
  | 71 => 0x3FC3FC5A#32
  | 72 => 0xBE003F08#32
  | 73 => 0x3FC74B0A#32
  | 74 => 0x3F7B77FE#32
  | 75 => 0x3F885954#32
  | 76 => 0x3F3B1050#32
  | 77 => 0xBE9525AD#32
  | 78 => 0x400D7D79#32
  | 79 => 0x3EBC3134#32
  | 80 => 0x3E85904D#32
  | 81 => 0x3F3FF35F#32
  | 82 => 0xBE669169#32
  | 83 => 0x3FF2F2CC#32
  | 84 => 0xBF031599#32
  | 85 => 0xBF788F14#32
  | 86 => 0xBFA702C0#32
  | 87 => 0x3EDEA5A0#32
  | 88 => 0x3C0B8FBD#32
  | 89 => 0xBED1C3C8#32
  | 90 => 0xBF9E31D2#32
  | 91 => 0xBF1F89DC#32
  | 92 => 0x3FC51B2F#32
  | 93 => 0xBF27F7B0#32
  | 94 => 0x3F1DBEBC#32
  | 95 => 0x3ECA15DC#32
  | 96 => 0xBF27384C#32
  | 97 => 0xBD61646D#32
  | 98 => 0x3FE109DB#32
  | 99 => 0x3FB4A3B0#32
  | 100 => 0x3F0BD59E#32
  | 101 => 0x3FE204A6#32
  | 102 => 0xBDB6CE9B#32
  | 103 => 0x3F147122#32
  | 104 => 0x4010D1DD#32
  | 105 => 0xBEED52FB#32
  | 106 => 0x4025072F#32
  | 107 => 0x4000C3AE#32
  | 108 => 0x4049E92A#32
  | 109 => 0x3FC72400#32
  | 110 => 0xBFE97E25#32
  | 111 => 0x3ED9FCFA#32
  | 112 => 0x3F8D201B#32
  | 113 => 0xBE14019F#32
  | 114 => 0xBEF32B16#32
  | 115 => 0xBE5F73D7#32
  | 116 => 0xBF2F25F7#32
  | 117 => 0x3EABA556#32
  | 118 => 0xBF913FD3#32
  | 119 => 0x402348A6#32
  | 120 => 0xBEF72414#32
  | 121 => 0x3FB82DBB#32
  | 122 => 0xBE6B804D#32
  | 123 => 0x406531FB#32
  | 124 => 0xBFC113BA#32
  | 125 => 0xBF5AA650#32
  | 126 => 0x4061C98B#32
  | 127 => 0x40AC627F#32
  | _ => 0#32

noncomputable abbrev lit0t0_542 (i : Nat) : BitVec 32 := match i % 128 with
  | 0 => 0xBF058CEB#32
  | 1 => 0xBFB88F70#32
  | 2 => 0xBE94D02D#32
  | 3 => 0xBE7FC035#32
  | 4 => 0x4030AE87#32
  | 5 => 0x3F0550F3#32
  | 6 => 0x3FBA0D93#32
  | 7 => 0x406DA142#32
  | 8 => 0xBF6C0F5E#32
  | 9 => 0x3FEC5B1D#32
  | 10 => 0xBDA319AD#32
  | 11 => 0xBF09711A#32
  | 12 => 0x3EB999F3#32
  | 13 => 0xBF27B382#32
  | 14 => 0xBF1B1A68#32
  | 15 => 0x3FEB4238#32
  | 16 => 0x3EAB3C77#32
  | 17 => 0x3F8FB790#32
  | 18 => 0xBF2D0974#32
  | 19 => 0x4011103A#32
  | 20 => 0xBE01B6F9#32
  | 21 => 0x4001711D#32
  | 22 => 0xBF918B72#32
  | 23 => 0xBE1BA998#32
  | 24 => 0xBEB0EEBC#32
  | 25 => 0x3F361446#32
  | 26 => 0xBEB57B45#32
  | 27 => 0x3E1004F6#32
  | 28 => 0xBED1AE2C#32
  | 29 => 0xBD0B8F5F#32
  | 30 => 0x3F78E578#32
  | 31 => 0x3F105530#32
  | 32 => 0xBFD6C4E2#32
  | 33 => 0x40066950#32
  | 34 => 0x3F473BA2#32
  | 35 => 0x3FE42D02#32
  | 36 => 0x401D787D#32
  | 37 => 0x3FFAFFB0#32
  | 38 => 0xBF83CC1A#32
  | 39 => 0xBDCAE3FB#32
  | 40 => 0x3D3CCAD9#32
  | 41 => 0x3FB609A8#32
  | 42 => 0x3F8370C8#32
  | 43 => 0x3F15479C#32
  | 44 => 0xBE80FCBF#32
  | 45 => 0x3F0AC132#32
  | 46 => 0xBF15214C#32
  | 47 => 0x3E814E5A#32
  | 48 => 0x3F1AFFBC#32
  | 49 => 0xBE895924#32
  | 50 => 0x3F3D5E12#32
  | 51 => 0x3F6DCF0A#32
  | 52 => 0x3F984BD8#32
  | 53 => 0xBE892963#32
  | 54 => 0x3FB252BE#32
  | 55 => 0x3F7C9712#32
  | 56 => 0xBE9A56C3#32
  | 57 => 0x40070018#32
  | 58 => 0x3ECDDE86#32
  | 59 => 0x3DD96B5E#32
  | 60 => 0x3EA6A9D4#32
  | 61 => 0xBF5F08C8#32
  | 62 => 0x3E549A1B#32
  | 63 => 0xBF11BA7E#32
  | 64 => 0xBDE3722E#32
  | 65 => 0xBEEF0699#32
  | 66 => 0x3FDE980C#32
  | 67 => 0x3D3C7980#32
  | 68 => 0xBED939D9#32
  | 69 => 0xBF5E675C#32
  | 70 => 0x404D9BD0#32
  | 71 => 0x3F406DEA#32
  | 72 => 0xBF4DE9B6#32
  | 73 => 0x407D316B#32
  | 74 => 0xBF8696AA#32
  | 75 => 0x3FEEF797#32
  | 76 => 0x3EFFB978#32
  | 77 => 0x3F8F88C7#32
  | 78 => 0xBF48A079#32
  | 79 => 0x3ED867D3#32
  | 80 => 0xBE213637#32
  | 81 => 0x3F381C57#32
  | 82 => 0x3FFDEAB0#32
  | 83 => 0xBDAEB292#32
  | 84 => 0xBF13C5C2#32
  | 85 => 0xBE81B7A7#32
  | 86 => 0x3EE40F6A#32
  | 87 => 0x3F9F55E8#32
  | 88 => 0x406A99C6#32
  | 89 => 0xBDA9C0B1#32
  | 90 => 0xBF8695B5#32
  | 91 => 0x40372DA1#32
  | 92 => 0x3F5802F3#32
  | 93 => 0x40162D02#32
  | 94 => 0x3E2D423A#32
  | 95 => 0x4093D261#32
  | 96 => 0xBF91C472#32
  | 97 => 0x3F066307#32
  | 98 => 0x3F011A3C#32
  | 99 => 0x3FFAD581#32
  | 100 => 0xBF7BFAFA#32
  | 101 => 0xBF86A496#32
  | 102 => 0x3F9C4CC9#32
  | 103 => 0xBF5688E8#32
  | 104 => 0xBF55AF1A#32
  | 105 => 0x3F5EA0E8#32
  | 106 => 0x3F7E50B7#32
  | 107 => 0x3E5CEF10#32
  | 108 => 0x3F35A9E2#32
  | 109 => 0x402AE880#32
  | 110 => 0x3FA019CE#32
  | 111 => 0x3DE0C7B3#32
  | 112 => 0x3E6B454A#32
  | 113 => 0x3FB6EB38#32
  | 114 => 0xBE80D522#32
  | 115 => 0x3F5BFCA6#32
  | 116 => 0x402D49F4#32
  | 117 => 0x4009D859#32
  | 118 => 0x3F85C9D8#32
  | 119 => 0x3FADE729#32
  | 120 => 0x3FA0ED4B#32
  | 121 => 0x40A07E02#32
  | 122 => 0x3DD77E15#32
  | 123 => 0xBF7EFCC4#32
  | 124 => 0x40452C07#32
  | 125 => 0x3B8FB18A#32
  | 126 => 0xBF9A45EE#32
  | 127 => 0x3F24FB3E#32
  | _ => 0#32

noncomputable abbrev lit0t0_543 (i : Nat) : BitVec 32 := match i % 128 with
  | 0 => 0x3F29BE05#32
  | 1 => 0xBEC5AFEF#32
  | 2 => 0x3D708C5A#32
  | 3 => 0x4097ABE8#32
  | 4 => 0x3E8C0272#32
  | 5 => 0xBE905AF3#32
  | 6 => 0x3F8DD889#32
  | 7 => 0x3FD6E2E0#32
  | 8 => 0x3FC134BB#32
  | 9 => 0x40597E2B#32
  | 10 => 0xBF596E1A#32
  | 11 => 0x3FA1E791#32
  | 12 => 0x406F8EE9#32
  | 13 => 0x3D4BF06B#32
  | 14 => 0x3FF7AC16#32
  | 15 => 0x3F0FDF25#32
  | 16 => 0x3FAA4BBC#32
  | 17 => 0x3E414368#32
  | 18 => 0x3F851714#32
  | 19 => 0x3F8A6318#32
  | 20 => 0x3E6C7044#32
  | 21 => 0xBF2E255C#32
  | 22 => 0x3F186417#32
  | 23 => 0x3F40B442#32
  | 24 => 0x3F433230#32
  | 25 => 0x3E1D202A#32
  | 26 => 0x3F89C037#32
  | 27 => 0x3ECFEB42#32
  | 28 => 0x3F570955#32
  | 29 => 0xBF2015BF#32
  | 30 => 0xBF273D04#32
  | 31 => 0x3FDA14A4#32
  | 32 => 0x3F2A9937#32
  | 33 => 0x400DA5BD#32
  | 34 => 0xBE33B178#32
  | 35 => 0x3F7944FE#32
  | 36 => 0x3F1CC454#32
  | 37 => 0x3E32E163#32
  | 38 => 0xBF220C42#32
  | 39 => 0x40074E04#32
  | 40 => 0xBF142F99#32
  | 41 => 0x3F49F838#32
  | 42 => 0x3F7B0D30#32
  | 43 => 0xBE0D261D#32
  | 44 => 0x3F0A5D8D#32
  | 45 => 0xBE88D4CE#32
  | 46 => 0x3FA9BA28#32
  | 47 => 0x3F190278#32
  | 48 => 0xBF427866#32
  | 49 => 0x3F35998B#32
  | 50 => 0xBF4AFCE8#32
  | 51 => 0x3F0C4B24#32
  | 52 => 0x3F8F6234#32
  | 53 => 0xBE91F273#32
  | 54 => 0xBEA887AE#32
  | 55 => 0xBE1639C0#32
  | 56 => 0x402EC470#32
  | 57 => 0xBF949356#32
  | 58 => 0x403569CF#32
  | 59 => 0x3F7A5666#32
  | 60 => 0xBF4DD8F4#32
  | 61 => 0x400F8C9B#32
  | 62 => 0x3ECCCBA9#32
  | 63 => 0xBF857FAF#32
  | 64 => 0x401DE3AD#32
  | 65 => 0xBF792659#32
  | 66 => 0x3FD19710#32
  | 67 => 0x3E45E787#32
  | 68 => 0x401C4FF9#32
  | 69 => 0xBF65693E#32
  | 70 => 0x3F3A9DD8#32
  | 71 => 0x3FAD6C94#32
  | 72 => 0xBF313C12#32
  | 73 => 0x3EA033B0#32
  | 74 => 0x3CF1E0F7#32
  | 75 => 0xBF9B2944#32
  | 76 => 0x3F157610#32
  | 77 => 0x3F62D35C#32
  | 78 => 0x3F32C791#32
  | 79 => 0x3F3F2031#32
  | 80 => 0x40002D9B#32
  | 81 => 0xBDF3A6DD#32
  | 82 => 0x3F8EB21F#32
  | 83 => 0xBE29DBED#32
  | 84 => 0x3FA2145E#32
  | 85 => 0x3F5DEEEC#32
  | 86 => 0xBDE96F2C#32
  | 87 => 0xBE48D231#32
  | 88 => 0xBF24A2AF#32
  | 89 => 0xBFB35459#32
  | 90 => 0x3F75D152#32
  | 91 => 0x3FEEF7A6#32
  | 92 => 0xBE28B4ED#32
  | 93 => 0x3F13499B#32
  | 94 => 0xBE9076A2#32
  | 95 => 0x4017DA20#32
  | 96 => 0xBF99B6BE#32
  | 97 => 0x3F247093#32
  | 98 => 0x3FCD91D3#32
  | 99 => 0xBF6B0B4B#32
  | 100 => 0xBE1B4151#32
  | 101 => 0x3F7FC9F8#32
  | 102 => 0x3F4C6561#32
  | 103 => 0x3EED4D5C#32
  | 104 => 0xBEA0369D#32
  | 105 => 0x3EAF68BF#32
  | 106 => 0xBFB87DB4#32
  | 107 => 0xBF0A01EB#32
  | 108 => 0x3EB565A6#32
  | 109 => 0x3E347757#32
  | 110 => 0x3E845BBF#32
  | 111 => 0xBF48639C#32
  | 112 => 0x3F80B752#32
  | 113 => 0x3F4E72FE#32
  | 114 => 0x40C95BFB#32
  | 115 => 0x3E4FE038#32
  | 116 => 0x3E87D46F#32
  | 117 => 0xBFA685FD#32
  | 118 => 0x3F535093#32
  | 119 => 0x3F644670#32
  | 120 => 0x3E830ED9#32
  | 121 => 0xBC2D8FD3#32
  | 122 => 0xBF4423FB#32
  | 123 => 0x40267BE3#32
  | 124 => 0xBD8B1C49#32
  | 125 => 0x3F3CE6B1#32
  | 126 => 0xBD427D22#32
  | 127 => 0xBE4132C0#32
  | _ => 0#32

noncomputable abbrev lit0t0_544 (i : Nat) : BitVec 32 := match i % 128 with
  | 0 => 0xBEBDCE1D#32
  | 1 => 0xBE8B9D84#32
  | 2 => 0x3F891A50#32
  | 3 => 0xBF8C279F#32
  | 4 => 0xBEB90F1B#32
  | 5 => 0x40526A96#32
  | 6 => 0x4011F165#32
  | 7 => 0x3ED10306#32
  | 8 => 0xBF9D701A#32
  | 9 => 0x3F8E413B#32
  | 10 => 0x40860DAB#32
  | 11 => 0x3FEDA793#32
  | 12 => 0x3FB4C84C#32
  | 13 => 0xBF054BB6#32
  | 14 => 0xBE006EAC#32
  | 15 => 0x3F8509C9#32
  | 16 => 0xBE5D95D5#32
  | 17 => 0x3FB90E14#32
  | 18 => 0xBF93A25A#32
  | 19 => 0x3FD14675#32
  | 20 => 0x3EB3B6EC#32
  | 21 => 0x40142FF1#32
  | 22 => 0x3F10C1F5#32
  | 23 => 0x3FFC6757#32
  | 24 => 0x3F22F2B2#32
  | 25 => 0xBEEABDBC#32
  | 26 => 0x3D45F238#32
  | 27 => 0xBDF10965#32
  | 28 => 0x4068C556#32
  | 29 => 0xBEF96925#32
  | 30 => 0xBF1A8F2A#32
  | 31 => 0x3F8C17B3#32
  | 32 => 0xBF712C63#32
  | 33 => 0x4057B3DA#32
  | 34 => 0x3F85231E#32
  | 35 => 0x3F851D3F#32
  | 36 => 0xBF97BB85#32
  | 37 => 0x3D67ED9D#32
  | 38 => 0x3FAAA83E#32
  | 39 => 0xBF594FFD#32
  | 40 => 0xBE4CB848#32
  | 41 => 0xBEC63396#32
  | 42 => 0xBF3F4469#32
  | 43 => 0x405EA7FC#32
  | 44 => 0xBF968DD8#32
  | 45 => 0x4009B869#32
  | 46 => 0xBEA491AC#32
  | 47 => 0xBECEF8E1#32
  | 48 => 0x3FC7EBCB#32
  | 49 => 0x3EC28F03#32
  | 50 => 0xBF20ADDC#32
  | 51 => 0x3FC18FA1#32
  | 52 => 0x3F12993D#32
  | 53 => 0x3FA7AD76#32
  | 54 => 0x3E31A8C3#32
  | 55 => 0x4014A963#32
  | 56 => 0x3E59B2D2#32
  | 57 => 0xBEB843AA#32
  | 58 => 0x40394714#32
  | 59 => 0x3F811F65#32
  | 60 => 0xBF89E0E1#32
  | 61 => 0xBF105A12#32
  | 62 => 0x3F12DAAB#32
  | 63 => 0x405CD296#32
  | 64 => 0x3E1EC471#32
  | 65 => 0xBEF4BE92#32
  | 66 => 0xBEEFB832#32
  | 67 => 0x3EA61266#32
  | 68 => 0x3F0668A9#32
  | 69 => 0xBF40EE6C#32
  | 70 => 0x3F599657#32
  | 71 => 0x3FC22C32#32
  | 72 => 0xBF11F0EE#32
  | 73 => 0xBF310477#32
  | 74 => 0x3FC4F109#32
  | 75 => 0x3F5B6AD8#32
  | 76 => 0x3FABFE25#32
  | 77 => 0xBF27D2CB#32
  | 78 => 0x3E88FE5F#32
  | 79 => 0xBF88CF26#32
  | 80 => 0x3DAAC7E9#32
  | 81 => 0x3FCB8F2C#32
  | 82 => 0x3F897BB0#32
  | 83 => 0x4001C4CE#32
  | 84 => 0x3FEABED4#32
  | 85 => 0xBED4A7CA#32
  | 86 => 0x3F6DEB0E#32
  | 87 => 0xBE7ED394#32
  | 88 => 0x3FD76207#32
  | 89 => 0xBE8B96B2#32
  | 90 => 0x40785144#32
  | 91 => 0x3EF56CCE#32
  | 92 => 0x3F6D15D2#32
  | 93 => 0x3E8CF36F#32
  | 94 => 0x3FEA4CFB#32
  | 95 => 0x3FEEB934#32
  | 96 => 0x3FE0FA0D#32
  | 97 => 0xBCA2B80A#32
  | 98 => 0x4009347D#32
  | 99 => 0x3F398CE6#32
  | 100 => 0xBDD55A7A#32
  | 101 => 0x3C9B5E0D#32
  | 102 => 0x3FE73914#32
  | 103 => 0x3EC5DA1B#32
  | 104 => 0xBD69AF4F#32
  | 105 => 0xBF1671E7#32
  | 106 => 0x3FEFCD2B#32
  | 107 => 0x402961B8#32
  | 108 => 0x3F966C70#32
  | 109 => 0x3FC2783C#32
  | 110 => 0x3F6F28D6#32
  | 111 => 0x3F8871EC#32
  | 112 => 0x3F036C78#32
  | 113 => 0x3F01C0CD#32
  | 114 => 0xBF3A7F14#32
  | 115 => 0x4067724C#32
  | 116 => 0x3F59C0B1#32
  | 117 => 0x3FCC9273#32
  | 118 => 0x3E41001F#32
  | 119 => 0x3FD54A0F#32
  | 120 => 0x3FB05BE5#32
  | 121 => 0x3F92EE4A#32
  | 122 => 0xBF2EBB75#32
  | 123 => 0xBF81C410#32
  | 124 => 0x40059A9C#32
  | 125 => 0x3EC88017#32
  | 126 => 0x40030F27#32
  | 127 => 0x3FCD7679#32
  | _ => 0#32

noncomputable abbrev lit0t0_545 (i : Nat) : BitVec 32 := match i % 128 with
  | 0 => 0x3FAD2254#32
  | 1 => 0x3F44C535#32
  | 2 => 0x3FB2AE50#32
  | 3 => 0xBF2CC259#32
  | 4 => 0x3EB1E8D2#32
  | 5 => 0x3FEBF906#32
  | 6 => 0xBF282B83#32
  | 7 => 0xBE0CF6ED#32
  | 8 => 0xBF7E8AA4#32
  | 9 => 0xBEC70AA3#32
  | 10 => 0x3F08AF1F#32
  | 11 => 0x3F1A0A48#32
  | 12 => 0x3E467C3A#32
  | 13 => 0xBF73EA7E#32
  | 14 => 0xBF44A8D2#32
  | 15 => 0x3FB0BCD5#32
  | 16 => 0x3E140E8A#32
  | 17 => 0x3FBAAEB0#32
  | 18 => 0xBF314EF0#32
  | 19 => 0x3F9B9A51#32
  | 20 => 0x3FB824F1#32
  | 21 => 0x40AB83FA#32
  | 22 => 0x3FB8F7E7#32
  | 23 => 0xBF1C6CD7#32
  | 24 => 0x3FEB8C5E#32
  | 25 => 0x3E94B316#32
  | 26 => 0x4000E522#32
  | 27 => 0x3E5CDAEC#32
  | 28 => 0x4025C640#32
  | 29 => 0x400C44FC#32
  | 30 => 0xBCF0AAD0#32
  | 31 => 0xBF3DEE25#32
  | 32 => 0x3FE822AB#32
  | 33 => 0xBF1C7808#32
  | 34 => 0xBF99FD2C#32
  | 35 => 0x3F8C4BA4#32
  | 36 => 0x3F8BCF20#32
  | 37 => 0x4043D380#32
  | 38 => 0xBFA0D25A#32
  | 39 => 0xBE1AB294#32
  | 40 => 0x3FBA52B6#32
  | 41 => 0x3EA9347C#32
  | 42 => 0xBF253FED#32
  | 43 => 0x3F4B0F38#32
  | 44 => 0x3EF26152#32
  | 45 => 0x40050555#32
  | 46 => 0xBEFB9708#32
  | 47 => 0xBE60F1B7#32
  | 48 => 0xBFC1E01D#32
  | 49 => 0xBECCFD90#32
  | 50 => 0x3EFECA6E#32
  | 51 => 0x3F80EDBC#32
  | 52 => 0x40659D94#32
  | 53 => 0x3EDE26E3#32
  | 54 => 0x3EC6776C#32
  | 55 => 0xBCAF9882#32
  | 56 => 0x3F251A59#32
  | 57 => 0xBF1807E4#32
  | 58 => 0x3F00C2AF#32
  | 59 => 0x3FD554C6#32
  | 60 => 0xBF6AEAD2#32
  | 61 => 0xBD5B98FB#32
  | 62 => 0x3F17644A#32
  | 63 => 0x3F519A40#32
  | 64 => 0xBE07F42E#32
  | 65 => 0x3FDFB39C#32
  | 66 => 0xBF4C2ACC#32
  | 67 => 0x3F1A9803#32
  | 68 => 0x400DBB8D#32
  | 69 => 0x4006688E#32
  | 70 => 0xBEACB0E2#32
  | 71 => 0xBEDD14D0#32
  | 72 => 0xBE004D17#32
  | 73 => 0x3E8768EF#32
  | 74 => 0x3FA519D5#32
  | 75 => 0xBF812DD1#32
  | 76 => 0xBF7E0BBE#32
  | 77 => 0xBDDB8C17#32
  | 78 => 0x3F0E5554#32
  | 79 => 0x40414D23#32
  | 80 => 0x3F72C99A#32
  | 81 => 0x3EA01C07#32
  | 82 => 0x3FB5F151#32
  | 83 => 0xBF63285B#32
  | 84 => 0x3EE9700A#32
  | 85 => 0x3F5E712E#32
  | 86 => 0xBEA94668#32
  | 87 => 0x3E888D52#32
  | 88 => 0xBF41C009#32
  | 89 => 0x40177FAD#32
  | 90 => 0x4038D26B#32
  | 91 => 0x4000F734#32
  | 92 => 0x3D4EAD92#32
  | 93 => 0x3FA9B480#32
  | 94 => 0xBDDFE81B#32
  | 95 => 0x3F02BEE1#32
  | 96 => 0xBE24878B#32
  | 97 => 0xBF43C52F#32
  | 98 => 0x3FDA4C03#32
  | 99 => 0x3F5DA65A#32
  | 100 => 0x3F9F466C#32
  | 101 => 0xBE4B6DB0#32
  | 102 => 0x3E03D82A#32
  | 103 => 0xBFBB4542#32
  | 104 => 0xBCB69D0D#32
  | 105 => 0x3E65EDBD#32
  | 106 => 0x3FA3891C#32
  | 107 => 0xBF2F9D48#32
  | 108 => 0xBE94AFD2#32
  | 109 => 0x3ECD0211#32
  | 110 => 0x40173A57#32
  | 111 => 0x3ECCD215#32
  | 112 => 0x3FA402AC#32
  | 113 => 0x4058C380#32
  | 114 => 0x3F64A77B#32
  | 115 => 0x40A7F55C#32
  | 116 => 0x3E2FE1E4#32
  | 117 => 0x3E838278#32
  | 118 => 0x3E414FC4#32
  | 119 => 0x401A31EA#32
  | 120 => 0x3F8F2E06#32
  | 121 => 0x3FB09CF9#32
  | 122 => 0x3EA79FBE#32
  | 123 => 0x40255141#32
  | 124 => 0xBF76AD4A#32
  | 125 => 0xBEB86752#32
  | 126 => 0x3F6D27FE#32
  | 127 => 0x406445C4#32
  | _ => 0#32

noncomputable abbrev lit0t0_546 (i : Nat) : BitVec 32 := match i % 128 with
  | 0 => 0x3FD50536#32
  | 1 => 0xBF7F9442#32
  | 2 => 0x3F99771F#32
  | 3 => 0x3FFF5C4D#32
  | 4 => 0x3F87AF62#32
  | 5 => 0xBF7B54DF#32
  | 6 => 0x3F55E344#32
  | 7 => 0x3F16239D#32
  | 8 => 0xBE97B1D2#32
  | 9 => 0x401D787D#32
  | 10 => 0xBCD30D7F#32
  | 11 => 0xBF086364#32
  | 12 => 0x4010677E#32
  | 13 => 0xBEAD6420#32
  | 14 => 0x3FF40A99#32
  | 15 => 0x40095ED3#32
  | 16 => 0x3E1DA930#32
  | 17 => 0x3F38049D#32
  | 18 => 0x3EEF9350#32
  | 19 => 0xBECF2C71#32
  | 20 => 0xBDFA0563#32
  | 21 => 0x4087A11B#32
  | 22 => 0xBE4D0104#32
  | 23 => 0xBCEF35A7#32
  | 24 => 0x3F05EF13#32
  | 25 => 0xBDC5D316#32
  | 26 => 0x3EF8BF2A#32
  | 27 => 0x4018BAE2#32
  | 28 => 0xBF958A8C#32
  | 29 => 0xBD63B6DE#32
  | 30 => 0x408FC8BF#32
  | 31 => 0xBF10CF5E#32
  | 32 => 0x3FC8191E#32
  | 33 => 0x4071F39D#32
  | 34 => 0x40161CC2#32
  | 35 => 0x3ECC19A9#32
  | 36 => 0x3FB48A53#32
  | 37 => 0x3E3F9A63#32
  | 38 => 0xBF9F3739#32
  | 39 => 0x3F82CB74#32
  | 40 => 0xBE7E3503#32
  | 41 => 0x408B2835#32
  | 42 => 0x3FC6C2E3#32
  | 43 => 0xBEBAACA6#32
  | 44 => 0xBC7A97E3#32
  | 45 => 0x3FD4094B#32
  | 46 => 0x402DFA6C#32
  | 47 => 0x3F012838#32
  | 48 => 0x3EC47F78#32
  | 49 => 0xBE68B171#32
  | 50 => 0x3FAA6BB8#32
  | 51 => 0xBE120AD7#32
  | 52 => 0xBED9D0EB#32
  | 53 => 0xBF897279#32
  | 54 => 0xBF2AB1B9#32
  | 55 => 0x402A820D#32
  | 56 => 0xBF3191B2#32
  | 57 => 0xBCF87D21#32
  | 58 => 0x3EC0419A#32
  | 59 => 0x3FF9239D#32
  | 60 => 0x3F281EB1#32
  | 61 => 0xBEB469F3#32
  | 62 => 0x3E15758D#32
  | 63 => 0xBFC7663B#32
  | 64 => 0xBF63DD3A#32
  | 65 => 0xBF71B422#32
  | 66 => 0x3FAE5E25#32
  | 67 => 0x3F1170E2#32
  | 68 => 0x3F52C73C#32
  | 69 => 0x3DA4C284#32
  | 70 => 0x3FA3622E#32
  | 71 => 0x3EEA28D4#32
  | 72 => 0x3F348ED8#32
  | 73 => 0x3F15F80B#32
  | 74 => 0xBEED90AA#32
  | 75 => 0x403BAAB3#32
  | 76 => 0x3FC06E8F#32
  | 77 => 0x3F8180AB#32
  | 78 => 0xBC36A95D#32
  | 79 => 0xBBF80220#32
  | 80 => 0xBFEBC6F0#32
  | 81 => 0xBE88DCCC#32
  | 82 => 0x3DC2761B#32
  | 83 => 0xBED26A70#32
  | 84 => 0x3F51D480#32
  | 85 => 0xBF5C3792#32
  | 86 => 0x3F9A95BB#32
  | 87 => 0xBDCB984C#32
  | 88 => 0x3F4D545C#32
  | 89 => 0x3F0B15BC#32
  | 90 => 0x3F579FBC#32
  | 91 => 0x3D343ABB#32
  | 92 => 0x3F5FEE0F#32
  | 93 => 0xBEA3043E#32
  | 94 => 0x3E020B67#32
  | 95 => 0x3ECB46CA#32
  | 96 => 0x3FEC168F#32
  | 97 => 0x400E3218#32
  | 98 => 0xBE9E8D0B#32
  | 99 => 0x401387F2#32
  | 100 => 0xBF20373D#32
  | 101 => 0xBF864971#32
  | 102 => 0x3FDDA925#32
  | 103 => 0xBDDF9C04#32
  | 104 => 0x4032011F#32
  | 105 => 0xBF4C4506#32
  | 106 => 0x3FE75250#32
  | 107 => 0xBEB1CBB8#32
  | 108 => 0xBEE10CDB#32
  | 109 => 0x40C4726A#32
  | 110 => 0x3FA18F70#32
  | 111 => 0x3FA33E24#32
  | 112 => 0xBF8C7C0A#32
  | 113 => 0x3FDB8CCC#32
  | 114 => 0x3D4530FF#32
  | 115 => 0x3E4CBE32#32
  | 116 => 0x3E7EC3DC#32
  | 117 => 0xBF01F593#32
  | 118 => 0x3F1561AF#32
  | 119 => 0xBED14F99#32
  | 120 => 0x3F0DA32D#32
  | 121 => 0x3FC7053E#32
  | 122 => 0x3E81AC92#32
  | 123 => 0xBF8768DA#32
  | 124 => 0xBF3EFC58#32
  | 125 => 0x3F57B220#32
  | 126 => 0x3E54DBA1#32
  | 127 => 0x3FB68D6E#32
  | _ => 0#32

noncomputable abbrev lit0t0_547 (i : Nat) : BitVec 32 := match i % 128 with
  | 0 => 0x3F076979#32
  | 1 => 0x3C6D353A#32
  | 2 => 0x4015EE92#32
  | 3 => 0x3F6F043B#32
  | 4 => 0xBFCBEA86#32
  | 5 => 0xBF9DD23C#32
  | 6 => 0x3C2240BF#32
  | 7 => 0xBFC39F43#32
  | 8 => 0xBF3D55DE#32
  | 9 => 0xBF35D9C0#32
  | 10 => 0x3EE506C4#32
  | 11 => 0x401E7584#32
  | 12 => 0x3F057228#32
  | 13 => 0x3E9A9D51#32
  | 14 => 0x3E4CB0B0#32
  | 15 => 0x3F0FBC40#32
  | 16 => 0x3D6BC521#32
  | 17 => 0x3F34133E#32
  | 18 => 0x3FE3F1F9#32
  | 19 => 0x3FC3D766#32
  | 20 => 0x40107056#32
  | 21 => 0x3DB7D883#32
  | 22 => 0xBEC116BA#32
  | 23 => 0xBEFD41C8#32
  | 24 => 0xBF3D9098#32
  | 25 => 0x3F02B6DC#32
  | 26 => 0x4007E2BF#32
  | 27 => 0x3AF544B6#32
  | 28 => 0x3F77DA08#32
  | 29 => 0xBF356910#32
  | 30 => 0x3EC26D02#32
  | 31 => 0xBE87D548#32
  | 32 => 0xBEF4C8C8#32
  | 33 => 0x3EFD9E2B#32
  | 34 => 0xBEDEE84C#32
  | 35 => 0x3F7307A1#32
  | 36 => 0xBDA6E063#32
  | 37 => 0x3F832395#32
  | 38 => 0x3F3A7310#32
  | 39 => 0x3F495123#32
  | 40 => 0xBE4AB6FC#32
  | 41 => 0xBF7263E4#32
  | 42 => 0x3D8AC5B0#32
  | 43 => 0x3F207D32#32
  | 44 => 0x3FBF163C#32
  | 45 => 0xBEFE4448#32
  | 46 => 0x3F824096#32
  | 47 => 0xBF2C21A0#32
  | 48 => 0x3ECEEBD5#32
  | 49 => 0x3F8358F6#32
  | 50 => 0xBED1F112#32
  | 51 => 0x3DA58D7E#32
  | 52 => 0x3FAC402F#32
  | 53 => 0x3EF2549A#32
  | 54 => 0x3F9A0BEB#32
  | 55 => 0x3ED27722#32
  | 56 => 0x3FF87967#32
  | 57 => 0x3F92A6EC#32
  | 58 => 0xBF404988#32
  | 59 => 0xBE587D35#32
  | 60 => 0x3FD7F82F#32
  | 61 => 0xBF7190F1#32
  | 62 => 0x3F97B984#32
  | 63 => 0xBFBA96F9#32
  | 64 => 0xBF7F4F86#32
  | 65 => 0xBF93814B#32
  | 66 => 0xBF88E52C#32
  | 67 => 0x404964B6#32
  | 68 => 0x3FEF9455#32
  | 69 => 0xBF8E78BA#32
  | 70 => 0x3E93633F#32
  | 71 => 0x407F72E4#32
  | 72 => 0x3E6C96EE#32
  | 73 => 0x3EA050E5#32
  | 74 => 0x3F854EC4#32
  | 75 => 0x3FA186AE#32
  | 76 => 0x3E023060#32
  | 77 => 0x4019EE67#32
  | 78 => 0xBDA8370D#32
  | 79 => 0x3F9672CB#32
  | 80 => 0x3F9D3019#32
  | 81 => 0x3D94CD8A#32
  | 82 => 0x3F2EDAD8#32
  | 83 => 0x3CFD37DF#32
  | 84 => 0x3E89ED5B#32
  | 85 => 0x3F4856C5#32
  | 86 => 0x3E3E3C2D#32
  | 87 => 0x3F88F62D#32
  | 88 => 0x3E0897B0#32
  | 89 => 0xBE857348#32
  | 90 => 0xBD7D29D9#32
  | 91 => 0xBF234DFD#32
  | 92 => 0xBE140A62#32
  | 93 => 0xBFB487F6#32
  | 94 => 0xBE2587D8#32
  | 95 => 0x4085B9B8#32
  | 96 => 0xBC7E4F1E#32
  | 97 => 0x3E7BE235#32
  | 98 => 0x3F603ABC#32
  | 99 => 0x3ED49B3F#32
  | 100 => 0x3EE00FEC#32
  | 101 => 0x3F2BFB4D#32
  | 102 => 0x3EA2F9A9#32
  | 103 => 0x3FAF84E6#32
  | 104 => 0xBE1F031D#32
  | 105 => 0x4022DB82#32
  | 106 => 0xBE561AE4#32
  | 107 => 0xBEC42000#32
  | 108 => 0xBF35D706#32
  | 109 => 0x3F33D77F#32
  | 110 => 0x405E8A9F#32
  | 111 => 0x3E8F8ED5#32
  | 112 => 0xBF4D951E#32
  | 113 => 0x3F584DAE#32
  | 114 => 0xBE06A38A#32
  | 115 => 0xBD52E349#32
  | 116 => 0xBD7AB20E#32
  | 117 => 0xBE9A6869#32
  | 118 => 0xBF3428A6#32
  | 119 => 0xBEA6A92B#32
  | 120 => 0x3EE2AFD9#32
  | 121 => 0x3F92BFBB#32
  | 122 => 0x3FEF6F65#32
  | 123 => 0xBF38A3EC#32
  | 124 => 0x3FBB3B0C#32
  | 125 => 0x3F32A749#32
  | 126 => 0x3E8465F5#32
  | 127 => 0x3FD5BB0D#32
  | _ => 0#32

noncomputable abbrev lit0t0_548 (i : Nat) : BitVec 32 := match i % 128 with
  | 0 => 0xBF34A96A#32
  | 1 => 0x3F4369FA#32
  | 2 => 0x3FFF3788#32
  | 3 => 0x400EF479#32
  | 4 => 0xBEEDBA37#32
  | 5 => 0x400ADCD1#32
  | 6 => 0xBF4EF135#32
  | 7 => 0x400AB635#32
  | 8 => 0x3FB44976#32
  | 9 => 0xBEBC8DC3#32
  | 10 => 0xBED34999#32
  | 11 => 0x4009F76E#32
  | 12 => 0x4095E528#32
  | 13 => 0x3F966EDD#32
  | 14 => 0xBE8FA288#32
  | 15 => 0xBDC83288#32
  | 16 => 0x3E5F9DE5#32
  | 17 => 0x3F29A7E3#32
  | 18 => 0x3FFAEA10#32
  | 19 => 0x3E7F165F#32
  | 20 => 0x3F1C0C55#32
  | 21 => 0xBF32ACF6#32
  | 22 => 0x3F1DDB5C#32
  | 23 => 0x3F15710C#32
  | 24 => 0x3FBC0F88#32
  | 25 => 0x4105271D#32
  | 26 => 0x3E08E9AC#32
  | 27 => 0xBF32CB05#32
  | 28 => 0x3F281539#32
  | 29 => 0xBCD81442#32
  | 30 => 0x3D6E1921#32
  | 31 => 0x3F088DA4#32
  | 32 => 0x4006A280#32
  | 33 => 0x3F8C1FC2#32
  | 34 => 0x3EA8AAD7#32
  | 35 => 0xBFC037DF#32
  | 36 => 0xBF657612#32
  | 37 => 0x3FAB80BA#32
  | 38 => 0xBF813AB4#32
  | 39 => 0xBF0F8706#32
  | 40 => 0x3FE45225#32
  | 41 => 0x3FB974A9#32
  | 42 => 0x3FAD14CA#32
  | 43 => 0x3F896360#32
  | 44 => 0xBFE6C507#32
  | 45 => 0x3E968004#32
  | 46 => 0xBE1B0839#32
  | 47 => 0x3BEC4911#32
  | 48 => 0xBDC56BF8#32
  | 49 => 0xBF76CE58#32
  | 50 => 0x4010D3D8#32
  | 51 => 0xBF8B7B6E#32
  | 52 => 0x4039D702#32
  | 53 => 0xBFAAA8F6#32
  | 54 => 0xBEA8A798#32
  | 55 => 0x3E116A25#32
  | 56 => 0xBCBD05E8#32
  | 57 => 0x3F347976#32
  | 58 => 0xBEE4BE6E#32
  | 59 => 0xBC57A39E#32
  | 60 => 0xBD8360AE#32
  | 61 => 0x3F0D5524#32
  | 62 => 0x40250EB6#32
  | 63 => 0x3F312EBF#32
  | 64 => 0x3F980881#32
  | 65 => 0xBF4BD29B#32
  | 66 => 0x3F7D5656#32
  | 67 => 0x3EA7D501#32
  | 68 => 0x3E44B967#32
  | 69 => 0xBEA461F2#32
  | 70 => 0x40204434#32
  | 71 => 0x40697344#32
  | 72 => 0x3F8AC7A4#32
  | 73 => 0x3FABE19B#32
  | 74 => 0x3FDF7EE0#32
  | 75 => 0xBF1BBED6#32
  | 76 => 0x3E7505B8#32
  | 77 => 0x3F2DD7A8#32
  | 78 => 0x3D9A5B14#32
  | 79 => 0xBF6E536B#32
  | 80 => 0x403B6D40#32
  | 81 => 0x3FBDBB3A#32
  | 82 => 0x3D16DF6D#32
  | 83 => 0xBF27CAE3#32
  | 84 => 0xBED8EEDD#32
  | 85 => 0xBD990992#32
  | 86 => 0x3EBA1C3D#32
  | 87 => 0x3E7F11BD#32
  | 88 => 0x3E26257F#32
  | 89 => 0x403AF5B8#32
  | 90 => 0xBE558C77#32
  | 91 => 0xBF802E54#32
  | 92 => 0x404841F3#32
  | 93 => 0xBCFEB632#32
  | 94 => 0xBE9B8706#32
  | 95 => 0xBEA92064#32
  | 96 => 0x3EC1AE61#32
  | 97 => 0x3C036C14#32
  | 98 => 0x3FA98D3F#32
  | 99 => 0xBF827780#32
  | 100 => 0xBFE74BC2#32
  | 101 => 0xBE8AA431#32
  | 102 => 0x3FEAB84A#32
  | 103 => 0xBF4E1470#32
  | 104 => 0xBEF6777E#32
  | 105 => 0xBF0B6E1B#32
  | 106 => 0xBF0820E6#32
  | 107 => 0x3F8EAF68#32
  | 108 => 0x3F01217B#32
  | 109 => 0x3F83F183#32
  | 110 => 0xBDD09334#32
  | 111 => 0x3D2320EA#32
  | 112 => 0xBEFCC4C6#32
  | 113 => 0x4004002E#32
  | 114 => 0x3FAC1807#32
  | 115 => 0x3EA4E81E#32
  | 116 => 0x3FA8C8B4#32
  | 117 => 0x3F9A8348#32
  | 118 => 0x3F0E5235#32
  | 119 => 0x3E5DFFDA#32
  | 120 => 0x3ECE2C30#32
  | 121 => 0x405FEDB6#32
  | 122 => 0x3F59D01D#32
  | 123 => 0x3E4666DE#32
  | 124 => 0xBFA71FCD#32
  | 125 => 0x3F3F7771#32
  | 126 => 0xBDABA5E4#32
  | 127 => 0x3EE2A8F6#32
  | _ => 0#32

noncomputable abbrev lit0t0_549 (i : Nat) : BitVec 32 := match i % 128 with
  | 0 => 0xBEC34AE7#32
  | 1 => 0xBEBC79CE#32
  | 2 => 0x3E74A957#32
  | 3 => 0x4000FF12#32
  | 4 => 0xBF00B907#32
  | 5 => 0xBF2395EE#32
  | 6 => 0xBF83FDEA#32
  | 7 => 0x3F1A0815#32
  | 8 => 0xBF72C590#32
  | 9 => 0xBEE53E04#32
  | 10 => 0xBD911BF2#32
  | 11 => 0x4007874E#32
  | 12 => 0xBF850265#32
  | 13 => 0x3F7EBF88#32
  | 14 => 0x3E666246#32
  | 15 => 0x4081E09C#32
  | 16 => 0x3E27C73B#32
  | 17 => 0x3F40F24E#32
  | 18 => 0x3FCA0CDE#32
  | 19 => 0xBF1FF3E4#32
  | 20 => 0xBEEC315A#32
  | 21 => 0xBE742A88#32
  | 22 => 0xBE60333D#32
  | 23 => 0xBF4592E2#32
  | 24 => 0x3F895C68#32
  | 25 => 0x3EF336D4#32
  | 26 => 0xBF828584#32
  | 27 => 0xBF3BD704#32
  | 28 => 0xBE35AAF5#32
  | 29 => 0xBE11C189#32
  | 30 => 0xBEF54064#32
  | 31 => 0xBE3EE61D#32
  | 32 => 0x3E2D0243#32
  | 33 => 0x403AEC62#32
  | 34 => 0x3FB24482#32
  | 35 => 0x3F4F650C#32
  | 36 => 0x3F75C7BE#32
  | 37 => 0xBEAB23EE#32
  | 38 => 0xBDB2383F#32
  | 39 => 0x3EC66F58#32
  | 40 => 0x3D1D01FB#32
  | 41 => 0x3FA7A698#32
  | 42 => 0x3FE10701#32
  | 43 => 0x4014EC9A#32
  | 44 => 0x3FC2162F#32
  | 45 => 0xBD84B55D#32
  | 46 => 0x400774A9#32
  | 47 => 0x3F1BF260#32
  | 48 => 0x3E908EC3#32
  | 49 => 0xBEF8DF58#32
  | 50 => 0xBF63307E#32
  | 51 => 0x4061AFCF#32
  | 52 => 0x3D7B5594#32
  | 53 => 0x3F5957B1#32
  | 54 => 0xBF1FFD65#32
  | 55 => 0x3F9F2701#32
  | 56 => 0x3EA2F0DB#32
  | 57 => 0x3E967B11#32
  | 58 => 0x3F2C5E1D#32
  | 59 => 0x3FCE09C9#32
  | 60 => 0xBFAB0D7F#32
  | 61 => 0xBF53640C#32
  | 62 => 0x4090F79A#32
  | 63 => 0x3F17E6E6#32
  | 64 => 0x40269D4C#32
  | 65 => 0xBFA8F506#32
  | 66 => 0x3F385997#32
  | 67 => 0xBE9D0B09#32
  | 68 => 0x3E37B934#32
  | 69 => 0xBE0CDA8D#32
  | 70 => 0xBD5EEC1D#32
  | 71 => 0xBD841F80#32
  | 72 => 0x40199FCC#32
  | 73 => 0x3F8625BC#32
  | 74 => 0x3E76CEC3#32
  | 75 => 0x401F82FF#32
  | 76 => 0xBF62DC30#32
  | 77 => 0x3F8263C7#32
  | 78 => 0x3EFE7EB0#32
  | 79 => 0x4098E6A1#32
  | 80 => 0x3DD6D892#32
  | 81 => 0xBEA1C961#32
  | 82 => 0x3FA2BD1C#32
  | 83 => 0xBE4594BF#32
  | 84 => 0xBD33C246#32
  | 85 => 0x3F4A55E4#32
  | 86 => 0x40315D73#32
  | 87 => 0xBFB0D072#32
  | 88 => 0xBFB3A535#32
  | 89 => 0x3FE765AC#32
  | 90 => 0x4006A0C0#32
  | 91 => 0xBF35C3D1#32
  | 92 => 0xBEDDDA94#32
  | 93 => 0xBE6B3ABE#32
  | 94 => 0x3EDDCF1F#32
  | 95 => 0x40240C16#32
  | 96 => 0x3FB725B6#32
  | 97 => 0x3FABC7DB#32
  | 98 => 0x3EFD97D9#32
  | 99 => 0x3F197B01#32
  | 100 => 0x3D251E9E#32
  | 101 => 0x40917A39#32
  | 102 => 0x3F113748#32
  | 103 => 0xBE178CCB#32
  | 104 => 0x3EFFC2E8#32
  | 105 => 0xBEE4A0C0#32
  | 106 => 0x401A57F2#32
  | 107 => 0xBED3BBE6#32
  | 108 => 0x3FCC0342#32
  | 109 => 0x3EA6D4B0#32
  | 110 => 0xBF609F55#32
  | 111 => 0x3F832500#32
  | 112 => 0x3FB3A47C#32
  | 113 => 0x3DBAE58A#32
  | 114 => 0x3F79D0D6#32
  | 115 => 0x3F4D9BEA#32
  | 116 => 0x40A3BFBC#32
  | 117 => 0x4000C51D#32
  | 118 => 0x3EBEC1E7#32
  | 119 => 0x3F6DF445#32
  | 120 => 0xBF1077E6#32
  | 121 => 0xBF524FB1#32
  | 122 => 0xBF663E58#32
  | 123 => 0xBF66E878#32
  | 124 => 0x3F419392#32
  | 125 => 0x3F3BB3CC#32
  | 126 => 0x406A8C13#32
  | 127 => 0x3E1CE5D8#32
  | _ => 0#32

noncomputable abbrev lit0t0_550 (i : Nat) : BitVec 32 := match i % 128 with
  | 0 => 0x3EC85376#32
  | 1 => 0xBE431633#32
  | 2 => 0x3FDC3DDF#32
  | 3 => 0x3FD14BA0#32
  | 4 => 0xBF8E7152#32
  | 5 => 0xBDCA6EAF#32
  | 6 => 0xBF9023DB#32
  | 7 => 0xBF3A9E13#32
  | 8 => 0x3F395831#32
  | 9 => 0x3E8AED2F#32
  | 10 => 0x3FCF2736#32
  | 11 => 0xBF87C65C#32
  | 12 => 0x401F52B1#32
  | 13 => 0x40111BAE#32
  | 14 => 0x3C79AB87#32
  | 15 => 0x3FC3D0ED#32
  | 16 => 0xBF79D566#32
  | 17 => 0xBDFF290F#32
  | 18 => 0xBF1C2862#32
  | 19 => 0xBED73A74#32
  | 20 => 0x3E3776E1#32
  | 21 => 0x3FED0536#32
  | 22 => 0x3F0EC293#32
  | 23 => 0x402E5551#32
  | 24 => 0x3FC4801C#32
  | 25 => 0xBED053DA#32
  | 26 => 0x3DF45A4C#32
  | 27 => 0xBFA7B2D2#32
  | 28 => 0xBFA6ECE7#32
  | 29 => 0xBF0DC8B3#32
  | 30 => 0x3F1478C2#32
  | 31 => 0xBF885C9B#32
  | 32 => 0xBF883A99#32
  | 33 => 0x3FBBDCC0#32
  | 34 => 0x3F186C34#32
  | 35 => 0x3FFA15C1#32
  | 36 => 0x4005CC6D#32
  | 37 => 0x3E76799D#32
  | 38 => 0xBF9BA448#32
  | 39 => 0xBF059C38#32
  | 40 => 0xBF5E0D8C#32
  | 41 => 0x3EBCA8BC#32
  | 42 => 0xBC9E73AA#32
  | 43 => 0x3FA594BE#32
  | 44 => 0xBFA1DDF4#32
  | 45 => 0xBF3607A6#32
  | 46 => 0xBF60DF6D#32
  | 47 => 0xBEEA0945#32
  | 48 => 0xBF0B1788#32
  | 49 => 0x40ADC279#32
  | 50 => 0xBF46B9BD#32
  | 51 => 0x3FF41A10#32
  | 52 => 0x3EBEB974#32
  | 53 => 0x3F431F64#32
  | 54 => 0x3ECAD7D2#32
  | 55 => 0x3F3EC148#32
  | 56 => 0xBEB5EA7E#32
  | 57 => 0x3F841248#32
  | 58 => 0xBEDE675B#32
  | 59 => 0x3E662603#32
  | 60 => 0x3F186BAA#32
  | 61 => 0x3FA65E61#32
  | 62 => 0x3F810918#32
  | 63 => 0x3F6EFF3A#32
  | 64 => 0x3E6FEDDA#32
  | 65 => 0xBEE52C8C#32
  | 66 => 0x3F934F56#32
  | 67 => 0x3CEDB37D#32
  | 68 => 0x3F88851E#32
  | 69 => 0x3FC03A7C#32
  | 70 => 0x3EF206E6#32
  | 71 => 0x3E66E4FF#32
  | 72 => 0xBFAC3DF3#32
  | 73 => 0xBF894C67#32
  | 74 => 0xBDF940A3#32
  | 75 => 0xBE6CE1DC#32
  | 76 => 0x3FAC322D#32
  | 77 => 0xBE0EB7DB#32
  | 78 => 0x40355F17#32
  | 79 => 0x3EC1C7D9#32
  | 80 => 0xBF31DEA5#32
  | 81 => 0x3FB1BE82#32
  | 82 => 0xBF20C00E#32
  | 83 => 0x3EF574F5#32
  | 84 => 0x3F1491E4#32
  | 85 => 0x3FA4998D#32
  | 86 => 0xBF84F536#32
  | 87 => 0x3F24E0D5#32
  | 88 => 0x3E45D507#32
  | 89 => 0xBEA8D360#32
  | 90 => 0x3F4FE074#32
  | 91 => 0x3F916688#32
  | 92 => 0x3D855631#32
  | 93 => 0xBF749ADC#32
  | 94 => 0x3EDD59FD#32
  | 95 => 0x400B214D#32
  | 96 => 0x40056254#32
  | 97 => 0xBE7BA0BE#32
  | 98 => 0x3F0C1F4E#32
  | 99 => 0x404F37C3#32
  | 100 => 0x3FA2E610#32
  | 101 => 0x3F2F73A0#32
  | 102 => 0xBF8964F3#32
  | 103 => 0xBDAF66F9#32
  | 104 => 0x3FE3664A#32
  | 105 => 0x3FF8B0D4#32
  | 106 => 0xBEAC89A2#32
  | 107 => 0x3F8FF12A#32
  | 108 => 0x3EE2BA1D#32
  | 109 => 0xBF965410#32
  | 110 => 0xBF817B50#32
  | 111 => 0x3F9F29B6#32
  | 112 => 0xBF6E6134#32
  | 113 => 0x3D939B74#32
  | 114 => 0x3FE14484#32
  | 115 => 0xBE55DD9A#32
  | 116 => 0x3F1880EA#32
  | 117 => 0x3FB82385#32
  | 118 => 0xBF14DB8A#32
  | 119 => 0x3F85A463#32
  | 120 => 0x402BB1B3#32
  | 121 => 0xBF7741DA#32
  | 122 => 0x3F4CA2C9#32
  | 123 => 0x3F466E22#32
  | 124 => 0xBF21706F#32
  | 125 => 0x3F84EBC4#32
  | 126 => 0xBF400F58#32
  | 127 => 0x3F89DAB6#32
  | _ => 0#32

noncomputable abbrev lit0t0_551 (i : Nat) : BitVec 32 := match i % 128 with
  | 0 => 0x3F04170F#32
  | 1 => 0xBE1A57CD#32
  | 2 => 0xBA779210#32
  | 3 => 0xBE0418FA#32
  | 4 => 0x4003988F#32
  | 5 => 0x3E802D71#32
  | 6 => 0x3F335119#32
  | 7 => 0xBF2337A2#32
  | 8 => 0x4037E9AA#32
  | 9 => 0x3E9C5B01#32
  | 10 => 0x4036B8E2#32
  | 11 => 0x3F794829#32
  | 12 => 0xBDF05612#32
  | 13 => 0x3CDEF2EA#32
  | 14 => 0xBD840D29#32
  | 15 => 0x3EF6AAA4#32
  | 16 => 0xBDB4D50B#32
  | 17 => 0x3EF19945#32
  | 18 => 0xBE99AFE1#32
  | 19 => 0x3E2A6B52#32
  | 20 => 0x3EC54BAE#32
  | 21 => 0xBF88C3F4#32
  | 22 => 0x3EC3B7BF#32
  | 23 => 0x3EE0F1C1#32
  | 24 => 0xBE3079E8#32
  | 25 => 0xBF57CEA3#32
  | 26 => 0xBF0F7792#32
  | 27 => 0x3EDC8F61#32
  | 28 => 0x3F4872E7#32
  | 29 => 0x3F88AC40#32
  | 30 => 0x3EE62B5F#32
  | 31 => 0xBF3FF550#32
  | 32 => 0x3DDF8569#32
  | 33 => 0x3E18E768#32
  | 34 => 0x3F767F66#32
  | 35 => 0x3F8E9284#32
  | 36 => 0x3ECDC2E4#32
  | 37 => 0xBF38AC35#32
  | 38 => 0x3FFA0852#32
  | 39 => 0xBF9A0EC9#32
  | 40 => 0x3C561F22#32
  | 41 => 0x3F57E9EE#32
  | 42 => 0x3F95121D#32
  | 43 => 0xBF0B7274#32
  | 44 => 0xBE63A53A#32
  | 45 => 0x4007A08E#32
  | 46 => 0x3E51A6F1#32
  | 47 => 0x3F992630#32
  | 48 => 0xBE80A705#32
  | 49 => 0x3F5254DE#32
  | 50 => 0x3F332D16#32
  | 51 => 0xBF560781#32
  | 52 => 0x40744BD8#32
  | 53 => 0x3F346EFE#32
  | 54 => 0x3FF1D75D#32
  | 55 => 0xBF601919#32
  | 56 => 0xBEEE07C0#32
  | 57 => 0x407F0702#32
  | 58 => 0xBF593045#32
  | 59 => 0xBF03B418#32
  | 60 => 0xBEC6F07A#32
  | 61 => 0x3FFBC579#32
  | 62 => 0x3F5F6058#32
  | 63 => 0x3F1C7FD7#32
  | 64 => 0x4024370A#32
  | 65 => 0x40112760#32
  | 66 => 0x3F4DC3CE#32
  | 67 => 0xBF675F4C#32
  | 68 => 0x3F0CB0FC#32
  | 69 => 0x3EA1A256#32
  | 70 => 0xBF22466F#32
  | 71 => 0x3FB744C4#32
  | 72 => 0x3EBD352F#32
  | 73 => 0x3F223723#32
  | 74 => 0xBDDCC743#32
  | 75 => 0xBF24218F#32
  | 76 => 0xBF5D998D#32
  | 77 => 0x3E2B8628#32
  | 78 => 0x3F8E7B69#32
  | 79 => 0xBEFBD48C#32
  | 80 => 0x402589B3#32
  | 81 => 0x3EDE04D1#32
  | 82 => 0x3F88BE58#32
  | 83 => 0xBE8AAF83#32
  | 84 => 0x3EE3F69C#32
  | 85 => 0x3F79225B#32
  | 86 => 0x3FF54D83#32
  | 87 => 0x401ED61E#32
  | 88 => 0xBEBF3E7F#32
  | 89 => 0xBF64649C#32
  | 90 => 0x3F51F160#32
  | 91 => 0x3DF81826#32
  | 92 => 0xBF8661FE#32
  | 93 => 0xBE9DEBE3#32
  | 94 => 0x3DED28D8#32
  | 95 => 0x3FA0005C#32
  | 96 => 0x3F8A121B#32
  | 97 => 0x3FAA7345#32
  | 98 => 0xBED4534F#32
  | 99 => 0xBF80847D#32
  | 100 => 0x3F25475E#32
  | 101 => 0x3FFEAC2E#32
  | 102 => 0x3EE9675A#32
  | 103 => 0x3F192DCF#32
  | 104 => 0x404F8BDC#32
  | 105 => 0x3FA899B6#32
  | 106 => 0x3F0CFE8E#32
  | 107 => 0x3E156E6E#32
  | 108 => 0xBECFBF78#32
  | 109 => 0x3FF67A0C#32
  | 110 => 0x3F81E753#32
  | 111 => 0x3F351487#32
  | 112 => 0xBFB29F3F#32
  | 113 => 0x4009172C#32
  | 114 => 0x3F89BE50#32
  | 115 => 0xBF0E7562#32
  | 116 => 0x4013A09B#32
  | 117 => 0x3F9EB9C7#32
  | 118 => 0x40A4D5CE#32
  | 119 => 0xBEE13F9E#32
  | 120 => 0x3E94F6A8#32
  | 121 => 0x3FE1BB12#32
  | 122 => 0x3FA39CA2#32
  | 123 => 0x3EBEE827#32
  | 124 => 0x3F5DB413#32
  | 125 => 0x3F694577#32
  | 126 => 0x4001E98C#32
  | 127 => 0x3EAC61B5#32
  | _ => 0#32

noncomputable abbrev lit0t0_552 (i : Nat) : BitVec 32 := match i % 128 with
  | 0 => 0x3E1273F7#32
  | 1 => 0x3F04053A#32
  | 2 => 0x3E4BA35D#32
  | 3 => 0x3E3233C3#32
  | 4 => 0xBF02A6D5#32
  | 5 => 0xBF6967F5#32
  | 6 => 0xBE0E8A21#32
  | 7 => 0x40015A80#32
  | 8 => 0x3F0C57D0#32
  | 9 => 0xBF06414C#32
  | 10 => 0x3F183055#32
  | 11 => 0xBE65C670#32
  | 12 => 0x3FABEF5C#32
  | 13 => 0x4014156E#32
  | 14 => 0x3F423D94#32
  | 15 => 0x3F075283#32
  | 16 => 0x3F9DF123#32
  | 17 => 0x3FA35F4A#32
  | 18 => 0x3FCD92BB#32
  | 19 => 0x3F0FE547#32
  | 20 => 0x3B894A86#32
  | 21 => 0x3E88EA03#32
  | 22 => 0x3FBA008D#32
  | 23 => 0x3F59A887#32
  | 24 => 0xBEC14D38#32
  | 25 => 0x3F16649D#32
  | 26 => 0xBF04F1FE#32
  | 27 => 0xBEF78926#32
  | 28 => 0xBE43F0CE#32
  | 29 => 0xBF650787#32
  | 30 => 0x3F4C3CE6#32
  | 31 => 0xBE22DD70#32
  | 32 => 0xBECBD101#32
  | 33 => 0x3E0FBD5C#32
  | 34 => 0x3F78D67C#32
  | 35 => 0xBF1AC726#32
  | 36 => 0x3F8FDDC7#32
  | 37 => 0xBE9AA97E#32
  | 38 => 0x3F414F92#32
  | 39 => 0xBF112576#32
  | 40 => 0x3FB28959#32
  | 41 => 0xBFB44327#32
  | 42 => 0x40834E06#32
  | 43 => 0x3F6D69BC#32
  | 44 => 0xBE9FFE8E#32
  | 45 => 0xBECF3163#32
  | 46 => 0x3F388A4E#32
  | 47 => 0x3EACE24B#32
  | 48 => 0x40305505#32
  | 49 => 0x3FF98787#32
  | 50 => 0x3F884D92#32
  | 51 => 0x3F9A8348#32
  | 52 => 0x3EDB3BCB#32
  | 53 => 0x3FD960B7#32
  | 54 => 0xBEC7F5F7#32
  | 55 => 0x3F812ADC#32
  | 56 => 0xBF1E32E6#32
  | 57 => 0x3FA7A536#32
  | 58 => 0xBEDAA004#32
  | 59 => 0xBF76ADB4#32
  | 60 => 0xBEF9B09D#32
  | 61 => 0xBD58A23B#32
  | 62 => 0x3D9CF9FF#32
  | 63 => 0xBE135B6F#32
  | 64 => 0x402951A4#32
  | 65 => 0x3F69457E#32
  | 66 => 0xBF390448#32
  | 67 => 0x3F0B2F96#32
  | 68 => 0xBEFC7D44#32
  | 69 => 0xBE9AE991#32
  | 70 => 0x3F0C93B8#32
  | 71 => 0xBD7F7576#32
  | 72 => 0x3F5671CE#32
  | 73 => 0x3DFE4217#32
  | 74 => 0x3ECE7E56#32
  | 75 => 0x3F06F760#32
  | 76 => 0xBF091EB8#32
  | 77 => 0x40765ABA#32
  | 78 => 0x4002B644#32
  | 79 => 0xBD945B34#32
  | 80 => 0xBF2C4917#32
  | 81 => 0xBF0643C0#32
  | 82 => 0x4042D194#32
  | 83 => 0x3FA3AB7A#32
  | 84 => 0xBF2702EE#32
  | 85 => 0x3F136A78#32
  | 86 => 0xBEEE52E3#32
  | 87 => 0x4002DA37#32
  | 88 => 0xBF0246A4#32
  | 89 => 0x3F0260B2#32
  | 90 => 0x3F9BA065#32
  | 91 => 0xBE035037#32
  | 92 => 0x3ED739CD#32
  | 93 => 0x3ECB86D9#32
  | 94 => 0x3FC5B559#32
  | 95 => 0x3F93FCD9#32
  | 96 => 0xBEC09F01#32
  | 97 => 0x3EAC6B66#32
  | 98 => 0x3FFF85D1#32
  | 99 => 0xBF046F69#32
  | 100 => 0xBF7E0F5A#32
  | 101 => 0x4099A45B#32
  | 102 => 0x3F769B4F#32
  | 103 => 0x400F8A7A#32
  | 104 => 0xBE7040C1#32
  | 105 => 0x3F4EFBE5#32
  | 106 => 0xBDC57C50#32
  | 107 => 0x3FB999F9#32
  | 108 => 0x4068D61A#32
  | 109 => 0x3F397663#32
  | 110 => 0xBE31C062#32
  | 111 => 0xBE106C0C#32
  | 112 => 0x3EC29D45#32
  | 113 => 0x40001419#32
  | 114 => 0x3F983095#32
  | 115 => 0xBF0FDAE0#32
  | 116 => 0x402493B6#32
  | 117 => 0xBF8B0412#32
  | 118 => 0x3E11F0E3#32
  | 119 => 0xBF3A6AA2#32
  | 120 => 0xBF026A83#32
  | 121 => 0xBD7BEBD3#32
  | 122 => 0x3F32CA55#32
  | 123 => 0x3F4562CF#32
  | 124 => 0xBF4C02BB#32
  | 125 => 0xBEF9A4FC#32
  | 126 => 0x3E7569AE#32
  | 127 => 0xBF094D0C#32
  | _ => 0#32

noncomputable abbrev lit0t0_553 (i : Nat) : BitVec 32 := match i % 128 with
  | 0 => 0x4014267D#32
  | 1 => 0x406CDFC6#32
  | 2 => 0x3DB8C50F#32
  | 3 => 0x404C7488#32
  | 4 => 0x3E8931DA#32
  | 5 => 0xBF9F26F6#32
  | 6 => 0xBEA8CEFF#32
  | 7 => 0xBE8791CB#32
  | 8 => 0x3FA2F380#32
  | 9 => 0x3EE664C6#32
  | 10 => 0xBF1A90C2#32
  | 11 => 0xC00B029C#32
  | 12 => 0x3F0535CC#32
  | 13 => 0x3F2D4CEB#32
  | 14 => 0xBF6A79EE#32
  | 15 => 0xBF7D37C8#32
  | 16 => 0x3F9206BC#32
  | 17 => 0x3E0012CE#32
  | 18 => 0xBEC79C09#32
  | 19 => 0x3F80E0D3#32
  | 20 => 0x404DB47C#32
  | 21 => 0x3F700697#32
  | 22 => 0x3F8D1280#32
  | 23 => 0xBF2D482D#32
  | 24 => 0x3F046721#32
  | 25 => 0xBE9FE189#32
  | 26 => 0x3F91FDCD#32
  | 27 => 0xBF9A815D#32
  | 28 => 0x3FE8E43D#32
  | 29 => 0x408C77E4#32
  | 30 => 0x3FF35C60#32
  | 31 => 0x3EBDA3A0#32
  | 32 => 0x3FE159C5#32
  | 33 => 0xBF84E91C#32
  | 34 => 0x3FD009E2#32
  | 35 => 0xBFA5D73C#32
  | 36 => 0x3FF06E5A#32
  | 37 => 0x3FD12ED9#32
  | 38 => 0x403551D0#32
  | 39 => 0x3F98C138#32
  | 40 => 0x3F86812C#32
  | 41 => 0xBE719AEE#32
  | 42 => 0xBEB985F2#32
  | 43 => 0xBF453BBE#32
  | 44 => 0x40156341#32
  | 45 => 0x3F5FA4F7#32
  | 46 => 0x3F359625#32
  | 47 => 0xBF2EE7A8#32
  | 48 => 0xBF2291F1#32
  | 49 => 0x4015B0B4#32
  | 50 => 0x40051CD2#32
  | 51 => 0x3F478A1B#32
  | 52 => 0x3F4E6B3A#32
  | 53 => 0x3EDDD081#32
  | 54 => 0xBECC21AE#32
  | 55 => 0x3F8339A2#32
  | 56 => 0x3FCA4949#32
  | 57 => 0x400F6D00#32
  | 58 => 0xBE4906E4#32
  | 59 => 0x3E9F542C#32
  | 60 => 0x3F399D28#32
  | 61 => 0x3F255B47#32
  | 62 => 0x3ED31E8F#32
  | 63 => 0x4009B539#32
  | 64 => 0xBFB479A0#32
  | 65 => 0xBF88F938#32
  | 66 => 0xBF289E22#32
  | 67 => 0x40177C38#32
  | 68 => 0x3D57053A#32
  | 69 => 0x3FCACB83#32
  | 70 => 0xBEB3513B#32
  | 71 => 0xBF753F31#32
  | 72 => 0x3F62D5DA#32
  | 73 => 0xBF3C2F25#32
  | 74 => 0xBF8A0DFF#32
  | 75 => 0x4021FE8A#32
  | 76 => 0xBF4C9B4A#32
  | 77 => 0x401161CA#32
  | 78 => 0x3E7C533C#32
  | 79 => 0x3FB2DD0B#32
  | 80 => 0x3E37AAFA#32
  | 81 => 0xBF42791C#32
  | 82 => 0x3E871BE2#32
  | 83 => 0x3E3B61AC#32
  | 84 => 0xBF2915F3#32
  | 85 => 0xBEC214F9#32
  | 86 => 0xBF371F83#32
  | 87 => 0xBE085436#32
  | 88 => 0x3D927314#32
  | 89 => 0xBDA1521B#32
  | 90 => 0xBEB11D4C#32
  | 91 => 0xBF08940D#32
  | 92 => 0x3EDDBF09#32
  | 93 => 0x3F4EC7C0#32
  | 94 => 0x4072F3DB#32
  | 95 => 0xBE5CDC31#32
  | 96 => 0x3F739A32#32
  | 97 => 0x3D81D352#32
  | 98 => 0xBDED5265#32
  | 99 => 0xBEA15CB0#32
  | 100 => 0xBE8F35F9#32
  | 101 => 0xBECF7793#32
  | 102 => 0xBC705B72#32
  | 103 => 0xBF1480FC#32
  | 104 => 0xBB52F2FE#32
  | 105 => 0x3E1AFA8F#32
  | 106 => 0xBFBB410C#32
  | 107 => 0xBF8206B2#32
  | 108 => 0xBF46A8B8#32
  | 109 => 0xBF814356#32
  | 110 => 0x3E6146D9#32
  | 111 => 0xBF8EF278#32
  | 112 => 0x4002A9D9#32
  | 113 => 0x3FECFABB#32
  | 114 => 0x3E6463F8#32
  | 115 => 0x401151CC#32
  | 116 => 0x3EBB7D1F#32
  | 117 => 0xBD4C23EE#32
  | 118 => 0xBDC3A94D#32
  | 119 => 0x3F596F63#32
  | 120 => 0xBD46E173#32
  | 121 => 0x3FAF6DC1#32
  | 122 => 0xBEE2A6C3#32
  | 123 => 0x3FCEE25C#32
  | 124 => 0xBECE2DDF#32
  | 125 => 0xBD2A82D3#32
  | 126 => 0x3EC8772D#32
  | 127 => 0x405901E0#32
  | _ => 0#32

noncomputable abbrev lit0t0_554 (i : Nat) : BitVec 32 := match i % 128 with
  | 0 => 0xBF008ABA#32
  | 1 => 0x3F29A3B2#32
  | 2 => 0x3E06083A#32
  | 3 => 0xBEAA2858#32
  | 4 => 0x3DEEBF7C#32
  | 5 => 0xBF829C29#32
  | 6 => 0x3F25B453#32
  | 7 => 0x3FCF7444#32
  | 8 => 0xBF67DD87#32
  | 9 => 0x3FAD89F7#32
  | 10 => 0x3C3D4F69#32
  | 11 => 0xBF857BB0#32
  | 12 => 0xBEF583C3#32
  | 13 => 0xBF152E6D#32
  | 14 => 0xBEF8B042#32
  | 15 => 0xBE52F533#32
  | 16 => 0x40026BEF#32
  | 17 => 0x3F9CA9BC#32
  | 18 => 0x4099EB57#32
  | 19 => 0x3F4E7575#32
  | 20 => 0xBE1F2809#32
  | 21 => 0xBF2098A9#32
  | 22 => 0x3F5A6C2C#32
  | 23 => 0xBF1EF638#32
  | 24 => 0xBF4B8D01#32
  | 25 => 0x40036B62#32
  | 26 => 0x3F6CA625#32
  | 27 => 0x3FCF6FD6#32
  | 28 => 0x3FE8627A#32
  | 29 => 0xBF7B286E#32
  | 30 => 0x3D751D31#32
  | 31 => 0x3E56B233#32
  | 32 => 0x3EB687C8#32
  | 33 => 0x3F52B80D#32
  | 34 => 0x4020443B#32
  | 35 => 0xBEAE0684#32
  | 36 => 0xBEB33018#32
  | 37 => 0xBC293A7D#32
  | 38 => 0x406C50D0#32
  | 39 => 0x3F7A10F4#32
  | 40 => 0xBE3A0B24#32
  | 41 => 0xBF9012E1#32
  | 42 => 0x4034E256#32
  | 43 => 0x4044268B#32
  | 44 => 0x3F54FF89#32
  | 45 => 0xBEA41104#32
  | 46 => 0xBDD957A1#32
  | 47 => 0x3F1D9EF5#32
  | 48 => 0xBF702E4C#32
  | 49 => 0xBF8F6E39#32
  | 50 => 0x3D2C452A#32
  | 51 => 0xBF881E71#32
  | 52 => 0xBF8A68D2#32
  | 53 => 0xBEA938FE#32
  | 54 => 0xBECA4C4A#32
  | 55 => 0xBE1D52D9#32
  | 56 => 0xBF64262F#32
  | 57 => 0xBF44497D#32
  | 58 => 0x3F0C85DC#32
  | 59 => 0xBECE733E#32
  | 60 => 0xBEB96E63#32
  | 61 => 0x3F9652B0#32
  | 62 => 0xBD9078F3#32
  | 63 => 0xBF58FAE0#32
  | 64 => 0xBF86AB72#32
  | 65 => 0x3E95826D#32
  | 66 => 0x3F58AA29#32
  | 67 => 0x3F605260#32
  | 68 => 0x402F941C#32
  | 69 => 0x3F183F47#32
  | 70 => 0x3F48A005#32
  | 71 => 0x3F6EBC7F#32
  | 72 => 0x3FBB5203#32
  | 73 => 0x3E006F3C#32
  | 74 => 0x3F4A46E7#32
  | 75 => 0x3F102970#32
  | 76 => 0xBE9649FE#32
  | 77 => 0x3FD95C61#32
  | 78 => 0xBF985037#32
  | 79 => 0x3FA7AD4F#32
  | 80 => 0xBDD1CEE1#32
  | 81 => 0x3F5D3B19#32
  | 82 => 0x3E0F5FCF#32
  | 83 => 0x3DB945AB#32
  | 84 => 0xBF0C340D#32
  | 85 => 0x3F0137C6#32
  | 86 => 0x3F5A239E#32
  | 87 => 0xBF63D700#32
  | 88 => 0xBF1EF959#32
  | 89 => 0xBE2209D9#32
  | 90 => 0xBE7C71AF#32
  | 91 => 0x3DE83807#32
  | 92 => 0xBF53E03A#32
  | 93 => 0xBF4059FC#32
  | 94 => 0x3FD31CFE#32
  | 95 => 0x3F90EB9A#32
  | 96 => 0x3E9840C0#32
  | 97 => 0xBE98D75B#32
  | 98 => 0x3F8B5ACE#32
  | 99 => 0xBFCFAFC4#32
  | 100 => 0x3E960911#32
  | 101 => 0x3F633446#32
  | 102 => 0x3DE3DB7F#32
  | 103 => 0x3D4986A7#32
  | 104 => 0x3F22288A#32
  | 105 => 0xBCA1588F#32
  | 106 => 0x3FFD07A9#32
  | 107 => 0x3FEA7D42#32
  | 108 => 0x4032D863#32
  | 109 => 0x3FB554CE#32
  | 110 => 0x3F342B8F#32
  | 111 => 0x3FF29659#32
  | 112 => 0xBE7C6D1E#32
  | 113 => 0xBF1D93FD#32
  | 114 => 0x3E8E9A78#32
  | 115 => 0xBE9B119C#32
  | 116 => 0xBEFD68C6#32
  | 117 => 0x3FEAE09A#32
  | 118 => 0xBD7299EA#32
  | 119 => 0x3EBF6DFA#32
  | 120 => 0x3F965ADA#32
  | 121 => 0x3F186B3F#32
  | 122 => 0xBF5E76CC#32
  | 123 => 0xBED5DCC0#32
  | 124 => 0x3DEF3263#32
  | 125 => 0xBE87FDB5#32
  | 126 => 0x3F082654#32
  | 127 => 0x3FC560FA#32
  | _ => 0#32

noncomputable abbrev lit0t0_555 (i : Nat) : BitVec 32 := match i % 128 with
  | 0 => 0xBF0A40F4#32
  | 1 => 0xBEDB24D9#32
  | 2 => 0x3FAB3D38#32
  | 3 => 0xBF6E4553#32
  | 4 => 0xBDAB0863#32
  | 5 => 0x3E3029D1#32
  | 6 => 0x3FA0E350#32
  | 7 => 0x3E5D5276#32
  | 8 => 0x3F836CA6#32
  | 9 => 0x3FDA2F40#32
  | 10 => 0x3E628DD5#32
  | 11 => 0xBF4F76C4#32
  | 12 => 0xBD979E7B#32
  | 13 => 0x3FC4A7D8#32
  | 14 => 0x3FBB5045#32
  | 15 => 0x3FBB0DF3#32
  | 16 => 0xBF9A875A#32
  | 17 => 0xBE823CCF#32
  | 18 => 0x3FFB1E88#32
  | 19 => 0x3F296F39#32
  | 20 => 0xBEFC07B0#32
  | 21 => 0x3EEE5A94#32
  | 22 => 0x3CCA5F2D#32
  | 23 => 0x4004B34E#32
  | 24 => 0xBF34DC02#32
  | 25 => 0x3F8B98D8#32
  | 26 => 0x3D215D3E#32
  | 27 => 0xBF1AB29B#32
  | 28 => 0x401A6FA5#32
  | 29 => 0x3EA581BB#32
  | 30 => 0x3FB6E018#32
  | 31 => 0x3FA22DAC#32
  | 32 => 0x3FB6051A#32
  | 33 => 0x3F447319#32
  | 34 => 0xBFA4BFE2#32
  | 35 => 0x404B6C5A#32
  | 36 => 0x3F4BB927#32
  | 37 => 0x3F8C96A0#32
  | 38 => 0xBE7E3EAA#32
  | 39 => 0x3F456A28#32
  | 40 => 0x3F95D13A#32
  | 41 => 0xBED0E8BC#32
  | 42 => 0xBEDF065C#32
  | 43 => 0x3DA8CF7E#32
  | 44 => 0x3FDE4498#32
  | 45 => 0x3E1CF260#32
  | 46 => 0xBF4FB58E#32
  | 47 => 0x3F73F1A8#32
  | 48 => 0xBF9E350C#32
  | 49 => 0x4052D521#32
  | 50 => 0xBF25CFFF#32
  | 51 => 0x3D3830FD#32
  | 52 => 0xBDAFF68D#32
  | 53 => 0x3FC3E9EE#32
  | 54 => 0xBF1C7CBE#32
  | 55 => 0x3DEE9BE9#32
  | 56 => 0x40359CD5#32
  | 57 => 0x3F4F5E86#32
  | 58 => 0xBE9AB492#32
  | 59 => 0xBF329D03#32
  | 60 => 0x3FAD1E33#32
  | 61 => 0xBF85FC64#32
  | 62 => 0x3FECD8FB#32
  | 63 => 0xBDDBC4CC#32
  | 64 => 0xBF25FCFA#32
  | 65 => 0xBF232D81#32
  | 66 => 0xBF02B8FF#32
  | 67 => 0x3E574F82#32
  | 68 => 0x3F530CD3#32
  | 69 => 0x3C6EC234#32
  | 70 => 0x3F28E151#32
  | 71 => 0x3F904A1C#32
  | 72 => 0xBE45EA6E#32
  | 73 => 0xBF48134A#32
  | 74 => 0x3FF2854F#32
  | 75 => 0x3FD40BD2#32
  | 76 => 0x3F741AED#32
  | 77 => 0x3EE687BC#32
  | 78 => 0x3E91B9BE#32
  | 79 => 0x3FC78016#32
  | 80 => 0x3F3A8BA4#32
  | 81 => 0x3F5104B1#32
  | 82 => 0x3E0F8C7E#32
  | 83 => 0x3F88A748#32
  | 84 => 0x3FE5C5D4#32
  | 85 => 0xBFA39904#32
  | 86 => 0xBF0E71DF#32
  | 87 => 0x3FB4804B#32
  | 88 => 0x3F9F2F02#32
  | 89 => 0x3FD6B803#32
  | 90 => 0x3FC883C4#32
  | 91 => 0xBF049EE2#32
  | 92 => 0xBE6BE08C#32
  | 93 => 0xBCD94038#32
  | 94 => 0xBE48E1E2#32
  | 95 => 0x3F13A74A#32
  | 96 => 0xBD29E039#32
  | 97 => 0xBDDF4A4F#32
  | 98 => 0x3FE68910#32
  | 99 => 0xBF83FDDE#32
  | 100 => 0xBF281E4D#32
  | 101 => 0x3FE765F4#32
  | 102 => 0x3FC04F9D#32
  | 103 => 0x3F8DD192#32
  | 104 => 0x40229BD8#32
  | 105 => 0xBD1BEEAC#32
  | 106 => 0x3F272418#32
  | 107 => 0x401A4D03#32
  | 108 => 0x3E277097#32
  | 109 => 0x3F674997#32
  | 110 => 0x4015D085#32
  | 111 => 0x3F2E0BC0#32
  | 112 => 0x3D888426#32
  | 113 => 0x401BF003#32
  | 114 => 0xBF5BB55C#32
  | 115 => 0xBEB927C3#32
  | 116 => 0xBF4A26A4#32
  | 117 => 0x3FC801B1#32
  | 118 => 0x3AA6BB23#32
  | 119 => 0xBE34BC0C#32
  | 120 => 0x3FCFAD99#32
  | 121 => 0xBEAC3DA3#32
  | 122 => 0xBF31EF27#32
  | 123 => 0x3F04793A#32
  | 124 => 0xBF558656#32
  | 125 => 0x3F403158#32
  | 126 => 0x3E50F80B#32
  | 127 => 0xBFD8B162#32
  | _ => 0#32

noncomputable abbrev lit0t0_556 (i : Nat) : BitVec 32 := match i % 128 with
  | 0 => 0xBEE3F454#32
  | 1 => 0x400E2D84#32
  | 2 => 0xBF3C27BA#32
  | 3 => 0x3D8543C8#32
  | 4 => 0x4057E9CD#32
  | 5 => 0xBEA347A9#32
  | 6 => 0x3FA06414#32
  | 7 => 0x3F4CF9B0#32
  | 8 => 0xBF363D2B#32
  | 9 => 0x40800291#32
  | 10 => 0x3F4CEC6A#32
  | 11 => 0x3FA454B8#32
  | 12 => 0xBFABA55A#32
  | 13 => 0x401EA375#32
  | 14 => 0x4086F280#32
  | 15 => 0x4011EEA0#32
  | 16 => 0x3F7D0BEE#32
  | 17 => 0x3FA96DED#32
  | 18 => 0x3FBE7301#32
  | 19 => 0xBF188466#32
  | 20 => 0x3F1241D3#32
  | 21 => 0x404A3EBD#32
  | 22 => 0xBEC7DEE4#32
  | 23 => 0x3D9AAC54#32
  | 24 => 0xBEDBDEBC#32
  | 25 => 0xBF273521#32
  | 26 => 0x408D41AB#32
  | 27 => 0xBF95DA25#32
  | 28 => 0x3FB2665A#32
  | 29 => 0x3FBF91CE#32
  | 30 => 0xBFB9739A#32
  | 31 => 0x3F76038B#32
  | 32 => 0xBE6D2CB5#32
  | 33 => 0xBEC96ED3#32
  | 34 => 0x3EF74717#32
  | 35 => 0x3FB83F1A#32
  | 36 => 0x3ED65A63#32
  | 37 => 0xBF914630#32
  | 38 => 0xBF3A94F7#32
  | 39 => 0x3F2A54F2#32
  | 40 => 0x3FE12D4E#32
  | 41 => 0x3F948198#32
  | 42 => 0x40502D46#32
  | 43 => 0x3F905D5A#32
  | 44 => 0xBECFF9D9#32
  | 45 => 0xBE929FAD#32
  | 46 => 0xBE49D840#32
  | 47 => 0x3F6D47EB#32
  | 48 => 0x3F03CC42#32
  | 49 => 0x3DF62048#32
  | 50 => 0x3F924DE2#32
  | 51 => 0x3F05B9E4#32
  | 52 => 0x3F72F9A0#32
  | 53 => 0xBCC8E092#32
  | 54 => 0x3FD388AF#32
  | 55 => 0x3EE96BB6#32
  | 56 => 0x3F831301#32
  | 57 => 0xBF28CA17#32
  | 58 => 0x3FC321C8#32
  | 59 => 0x3F6D4736#32
  | 60 => 0x3EFF256A#32
  | 61 => 0xBE336E63#32
  | 62 => 0x3F47B8C1#32
  | 63 => 0xBF81DBE7#32
  | 64 => 0xBEC1858F#32
  | 65 => 0x3FC12C55#32
  | 66 => 0xBE294E12#32
  | 67 => 0x3E63BC30#32
  | 68 => 0xBEDDFB2B#32
  | 69 => 0x3FD2CD23#32
  | 70 => 0xBE1D659B#32
  | 71 => 0xBF824902#32
  | 72 => 0x3F214323#32
  | 73 => 0xBE7F0902#32
  | 74 => 0x3E7E2366#32
  | 75 => 0x3FEE9EA8#32
  | 76 => 0xBE0DB040#32
  | 77 => 0x3EC14399#32
  | 78 => 0x3F77D104#32
  | 79 => 0x3F57BEC6#32
  | 80 => 0xBF85B2F4#32
  | 81 => 0x3D2FB3B4#32
  | 82 => 0xBF3869A0#32
  | 83 => 0xBEF104F8#32
  | 84 => 0x3EA01EC8#32
  | 85 => 0xBE9F28D5#32
  | 86 => 0xBF6EEC86#32
  | 87 => 0x3F83FD2B#32
  | 88 => 0x4014834F#32
  | 89 => 0xBF3B6429#32
  | 90 => 0x3E986031#32
  | 91 => 0x3EF1779C#32
  | 92 => 0xBF114945#32
  | 93 => 0x3F9A34D2#32
  | 94 => 0x3EA2E001#32
  | 95 => 0xBF4DB87F#32
  | 96 => 0x3FF8A203#32
  | 97 => 0x4055BB9D#32
  | 98 => 0x3F860E2B#32
  | 99 => 0xBEA1B9AB#32
  | 100 => 0x400288C7#32
  | 101 => 0x402AF307#32
  | 102 => 0xBF1F5079#32
  | 103 => 0x3FC40893#32
  | 104 => 0x3F5031E6#32
  | 105 => 0x3F62669B#32
  | 106 => 0x3F909AC1#32
  | 107 => 0xBEE37128#32
  | 108 => 0x3ED03F0E#32
  | 109 => 0x3F92B6C2#32
  | 110 => 0x4019A4E4#32
  | 111 => 0x3F3CE776#32
  | 112 => 0x3FB0AF72#32
  | 113 => 0xBF7AEA18#32
  | 114 => 0x3F530286#32
  | 115 => 0x3E61E7EE#32
  | 116 => 0xBF23F75E#32
  | 117 => 0x3FA31854#32
  | 118 => 0xBE8A3DF1#32
  | 119 => 0x3D7B38AC#32
  | 120 => 0x3ED44A03#32
  | 121 => 0xBED4E882#32
  | 122 => 0x3F12CD76#32
  | 123 => 0x3EB237F6#32
  | 124 => 0x3F8E9E4C#32
  | 125 => 0x4041C592#32
  | 126 => 0x3FCCBB6A#32
  | 127 => 0x4003197D#32
  | _ => 0#32

noncomputable abbrev lit0t0_557 (i : Nat) : BitVec 32 := match i % 128 with
  | 0 => 0xBDB96289#32
  | 1 => 0x3EC6BAC5#32
  | 2 => 0xBF6BB5BE#32
  | 3 => 0xBDD3897D#32
  | 4 => 0x3FF8C047#32
  | 5 => 0xBF280A5A#32
  | 6 => 0xBF26DF7E#32
  | 7 => 0x3F930C0E#32
  | 8 => 0x3F56BA62#32
  | 9 => 0xBF2606CB#32
  | 10 => 0xBE9FBBC7#32
  | 11 => 0xBF8FA3FE#32
  | 12 => 0xBEEF39CA#32
  | 13 => 0x4010DE58#32
  | 14 => 0xBE2CA23A#32
  | 15 => 0xBF538B9B#32
  | 16 => 0xBF1B71B9#32
  | 17 => 0xBF350AB7#32
  | 18 => 0x3ED4BF9F#32
  | 19 => 0xBF28A9B8#32
  | 20 => 0x3E7D96F3#32
  | 21 => 0xBE9345C6#32
  | 22 => 0x40122DD1#32
  | 23 => 0x3F6708EE#32
  | 24 => 0x3FBA801D#32
  | 25 => 0xBE873220#32
  | 26 => 0x40424902#32
  | 27 => 0x3EB528C0#32
  | 28 => 0xBF89B149#32
  | 29 => 0xBF44684C#32
  | 30 => 0xBE62F3F8#32
  | 31 => 0x3FA7CE9D#32
  | 32 => 0x3C1C4BBE#32
  | 33 => 0xBFB7BF00#32
  | 34 => 0xBE6F76C9#32
  | 35 => 0x3EF42082#32
  | 36 => 0xBB371678#32
  | 37 => 0x3EB54C80#32
  | 38 => 0xBE99028E#32
  | 39 => 0x3FDD03C0#32
  | 40 => 0x3F8BB8C1#32
  | 41 => 0x402D39DE#32
  | 42 => 0xBE2A2DE7#32
  | 43 => 0x3FCFA220#32
  | 44 => 0xBF297D71#32
  | 45 => 0x3EF7302F#32
  | 46 => 0x3F479D3E#32
  | 47 => 0x3E7A0E5C#32
  | 48 => 0x4019626C#32
  | 49 => 0x3F35AC32#32
  | 50 => 0x3FEA96C0#32
  | 51 => 0x404EEEA4#32
  | 52 => 0x3EBDFF09#32
  | 53 => 0xBEB8EC45#32
  | 54 => 0x3E881966#32
  | 55 => 0x3F42E222#32
  | 56 => 0x3E510351#32
  | 57 => 0xBDA61DDD#32
  | 58 => 0x3F077668#32
  | 59 => 0x3FAAED35#32
  | 60 => 0xBFCF48A5#32
  | 61 => 0x3FF48E18#32
  | 62 => 0x3F50ED52#32
  | 63 => 0x40292375#32
  | 64 => 0x3EF16649#32
  | 65 => 0xBEB3B08D#32
  | 66 => 0xBF7A384E#32
  | 67 => 0x3E1B2868#32
  | 68 => 0xBE6FE592#32
  | 69 => 0x400D33FF#32
  | 70 => 0xBF6B5948#32
  | 71 => 0x3FC0731A#32
  | 72 => 0x4036B3D0#32
  | 73 => 0x3F8D78C8#32
  | 74 => 0xBEAACE4E#32
  | 75 => 0x3EA073D7#32
  | 76 => 0x3E4225E9#32
  | 77 => 0xBF13D59E#32
  | 78 => 0x3F22413E#32
  | 79 => 0x3ED1B903#32
  | 80 => 0xBE53C43D#32
  | 81 => 0x3EC88D2C#32
  | 82 => 0xBFB46705#32
  | 83 => 0x3F088727#32
  | 84 => 0x3FD56AA3#32
  | 85 => 0x40251A21#32
  | 86 => 0xBF9ADB8E#32
  | 87 => 0x40031EC8#32
  | 88 => 0xBE957795#32
  | 89 => 0x400530D4#32
  | 90 => 0xBE6CF422#32
  | 91 => 0x3FDA96C6#32
  | 92 => 0xBE8061EC#32
  | 93 => 0x40104B40#32
  | 94 => 0x3FD0E1E7#32
  | 95 => 0xBED3B772#32
  | 96 => 0x3C1AA643#32
  | 97 => 0xBCCD7CAF#32
  | 98 => 0x3F3D3908#32
  | 99 => 0xBF042F00#32
  | 100 => 0xBF1DD8F4#32
  | 101 => 0x3F3E9161#32
  | 102 => 0x3E914AA7#32
  | 103 => 0x3FB7486B#32
  | 104 => 0xBFBBF252#32
  | 105 => 0x3F96A426#32
  | 106 => 0x3F1667E6#32
  | 107 => 0x3E7BA4B6#32
  | 108 => 0x405C2C73#32
  | 109 => 0xBF3100BF#32
  | 110 => 0x3EA48375#32
  | 111 => 0x3F1D83E8#32
  | 112 => 0x3E33C504#32
  | 113 => 0x400275A7#32
  | 114 => 0x3FB2AD9C#32
  | 115 => 0x40246850#32
  | 116 => 0xBE9CB123#32
  | 117 => 0x3EEADBB6#32
  | 118 => 0x3BD2F5F9#32
  | 119 => 0x3FBBAE81#32
  | 120 => 0xBF771B1E#32
  | 121 => 0x3F90E521#32
  | 122 => 0xBEC34576#32
  | 123 => 0xBFB77C44#32
  | 124 => 0x3FE5761C#32
  | 125 => 0x3F506E08#32
  | 126 => 0x3E2951D2#32
  | 127 => 0xBF79EA31#32
  | _ => 0#32

noncomputable abbrev lit0t0_558 (i : Nat) : BitVec 32 := match i % 128 with
  | 0 => 0x40168FE9#32
  | 1 => 0x4010A230#32
  | 2 => 0xBEAB88A7#32
  | 3 => 0xBF82D2DA#32
  | 4 => 0x3FCA45EE#32
  | 5 => 0x3EBB936E#32
  | 6 => 0x3F238F88#32
  | 7 => 0x40893772#32
  | 8 => 0x3E7536D5#32
  | 9 => 0x3FAE3081#32
  | 10 => 0x401DEB2C#32
  | 11 => 0xBD8A33A5#32
  | 12 => 0xBF3F1604#32
  | 13 => 0x3F828786#32
  | 14 => 0x3EF8A734#32
  | 15 => 0x3BEEFE94#32
  | 16 => 0xBD4F5073#32
  | 17 => 0x3F34208D#32
  | 18 => 0xBF5A8D57#32
  | 19 => 0xBE4389FE#32
  | 20 => 0x3F9EA0F6#32
  | 21 => 0xBECB2301#32
  | 22 => 0x4034796A#32
  | 23 => 0x3E5D2397#32
  | 24 => 0x3FD01B80#32
  | 25 => 0x3F06FE7D#32
  | 26 => 0x3F4DE408#32
  | 27 => 0x3E0747A2#32
  | 28 => 0x3F21F265#32
  | 29 => 0x3F0A76D7#32
  | 30 => 0xBE068FE5#32
  | 31 => 0x3FB6F7F1#32
  | 32 => 0xBFB86FFC#32
  | 33 => 0xBE2F924F#32
  | 34 => 0x3F90B264#32
  | 35 => 0xBEBF1B61#32
  | 36 => 0x3F828016#32
  | 37 => 0x406DB1FF#32
  | 38 => 0xBF04CC22#32
  | 39 => 0xBF8218A9#32
  | 40 => 0x3F7D38FE#32
  | 41 => 0x3E20F2DC#32
  | 42 => 0xBDCC6EC4#32
  | 43 => 0xBE5806E0#32
  | 44 => 0xBFB19F63#32
  | 45 => 0x3E7A3EA2#32
  | 46 => 0xBF2F8D10#32
  | 47 => 0xBEE83804#32
  | 48 => 0xBFA8C8A1#32
  | 49 => 0x3EE5D623#32
  | 50 => 0xBEF56B30#32
  | 51 => 0x3F343EA6#32
  | 52 => 0x40222B2C#32
  | 53 => 0xBE01A5D1#32
  | 54 => 0x3F794654#32
  | 55 => 0x3E1817BB#32
  | 56 => 0x3F05C9BF#32
  | 57 => 0xBF3F0A4C#32
  | 58 => 0xBF4B1346#32
  | 59 => 0xBF2234BF#32
  | 60 => 0x3F444F20#32
  | 61 => 0x3FD2D688#32
  | 62 => 0x3FB7803C#32
  | 63 => 0x3EC7B0F6#32
  | 64 => 0x3FD266C0#32
  | 65 => 0xBE6EF455#32
  | 66 => 0xBE110F4B#32
  | 67 => 0xBF8CE16D#32
  | 68 => 0x3F8A259C#32
  | 69 => 0x3FF42C02#32
  | 70 => 0xBF6A0467#32
  | 71 => 0x3E804795#32
  | 72 => 0x3F3CD47C#32
  | 73 => 0xBF55AACA#32
  | 74 => 0x3ECDDB26#32
  | 75 => 0xBF5DB0D9#32
  | 76 => 0xBF2A70A1#32
  | 77 => 0x3E609280#32
  | 78 => 0x3FBA43B3#32
  | 79 => 0x40271C3E#32
  | 80 => 0x3E1FD519#32
  | 81 => 0x3EDEC9F5#32
  | 82 => 0x3FA90468#32
  | 83 => 0x3E40297F#32
  | 84 => 0xBEAF14CB#32
  | 85 => 0x3F1F15CC#32
  | 86 => 0xBC98B16D#32
  | 87 => 0xBF8090B6#32
  | 88 => 0xBE97D321#32
  | 89 => 0xBE8FE650#32
  | 90 => 0x3F2CD9CB#32
  | 91 => 0x3EFE374A#32
  | 92 => 0xBF29A8B9#32
  | 93 => 0x3FB8BD05#32
  | 94 => 0x3E9118E8#32
  | 95 => 0x3FC8E810#32
  | 96 => 0x402BDDEC#32
  | 97 => 0x401A5B0B#32
  | 98 => 0x3EC27F7A#32
  | 99 => 0xBF5D0913#32
  | 100 => 0x3F4FFD74#32
  | 101 => 0x4015258D#32
  | 102 => 0x3DB96513#32
  | 103 => 0xBE40CDEA#32
  | 104 => 0xBF4CD00C#32
  | 105 => 0xBE67D47B#32
  | 106 => 0x3CC1FDE6#32
  | 107 => 0xBC9D0E1D#32
  | 108 => 0x3DA5502C#32
  | 109 => 0x401EA7B7#32
  | 110 => 0x409BB17D#32
  | 111 => 0xBF2AEA85#32
  | 112 => 0xBF61076F#32
  | 113 => 0x3FC1C042#32
  | 114 => 0x3F2EE9D2#32
  | 115 => 0x3F811D50#32
  | 116 => 0x3F313D6D#32
  | 117 => 0x404500C1#32
  | 118 => 0x3F08F72D#32
  | 119 => 0x3FE6C4F6#32
  | 120 => 0x3F590078#32
  | 121 => 0x3F537383#32
  | 122 => 0x3F96A519#32
  | 123 => 0xBE322B41#32
  | 124 => 0xBE8528B4#32
  | 125 => 0xBF9A3725#32
  | 126 => 0x3CE8DC27#32
  | 127 => 0x401B8686#32
  | _ => 0#32

noncomputable abbrev lit0t0_559 (i : Nat) : BitVec 32 := match i % 128 with
  | 0 => 0xBF4F8E46#32
  | 1 => 0xBEE722B9#32
  | 2 => 0x4036C130#32
  | 3 => 0x3FD6DEFD#32
  | 4 => 0x3F87A21E#32
  | 5 => 0xBEB7E17A#32
  | 6 => 0x3F9287E6#32
  | 7 => 0x3EC1E374#32
  | 8 => 0xBF8FF019#32
  | 9 => 0xBF22194C#32
  | 10 => 0x3F9E4CF5#32
  | 11 => 0x3FD7D649#32
  | 12 => 0x3F43DE51#32
  | 13 => 0x3FFE00A7#32
  | 14 => 0x40649B0B#32
  | 15 => 0xBE0690C6#32
  | 16 => 0x3F448ACB#32
  | 17 => 0xBF6EB5AB#32
  | 18 => 0xBF3735EE#32
  | 19 => 0xBE34287B#32
  | 20 => 0x3F1DDC41#32
  | 21 => 0x3DE1A834#32
  | 22 => 0x40A33324#32
  | 23 => 0xBF8F5935#32
  | 24 => 0x3FBD5F1E#32
  | 25 => 0x401910E4#32
  | 26 => 0x3FDFAF13#32
  | 27 => 0xBE86FDC9#32
  | 28 => 0x3F66E4C1#32
  | 29 => 0x402E8E04#32
  | 30 => 0x3E813989#32
  | 31 => 0xBF4BB917#32
  | 32 => 0x3EC0BDA0#32
  | 33 => 0xBF2272C6#32
  | 34 => 0x3FBF3F30#32
  | 35 => 0xBDDD7B12#32
  | 36 => 0x3F9A6EC4#32
  | 37 => 0x401F69DB#32
  | 38 => 0xBE1A04D8#32
  | 39 => 0xBD256FB5#32
  | 40 => 0x3FF2C728#32
  | 41 => 0x4013AC6B#32
  | 42 => 0x3E2ED253#32
  | 43 => 0xBEB41A3D#32
  | 44 => 0x4016CFA2#32
  | 45 => 0xBF5D8ADC#32
  | 46 => 0x3FF664C3#32
  | 47 => 0x3F191F2E#32
  | 48 => 0xBDAF46E8#32
  | 49 => 0x3F00027B#32
  | 50 => 0x3C24F766#32
  | 51 => 0xBF515C94#32
  | 52 => 0x3FB887E8#32
  | 53 => 0x3F4629E5#32
  | 54 => 0x3F845D0E#32
  | 55 => 0x408A951A#32
  | 56 => 0x3F28A111#32
  | 57 => 0xBE346639#32
  | 58 => 0xBF86EC9E#32
  | 59 => 0xBF4001F9#32
  | 60 => 0xBDE5EB44#32
  | 61 => 0x3E9FC004#32
  | 62 => 0x3EE899C4#32
  | 63 => 0x3E75A72E#32
  | 64 => 0xBF67FA48#32
  | 65 => 0xBF421B1B#32
  | 66 => 0x406850D7#32
  | 67 => 0x3E60DF4A#32
  | 68 => 0xBE0C945C#32
  | 69 => 0xBF77FF71#32
  | 70 => 0xBDF25AD2#32
  | 71 => 0x3FD05F68#32
  | 72 => 0x3F3C2F8A#32
  | 73 => 0xBF0923F2#32
  | 74 => 0xBF682818#32
  | 75 => 0x3FC4AC82#32
  | 76 => 0xBE8F1E4D#32
  | 77 => 0x402385A0#32
  | 78 => 0x3F5DEC18#32
  | 79 => 0x3F1521D2#32
  | 80 => 0xBF20B53F#32
  | 81 => 0xBFAB420F#32
  | 82 => 0x3FB1CD62#32
  | 83 => 0x3F0C6966#32
  | 84 => 0x3E8C7397#32
  | 85 => 0x3DE8A073#32
  | 86 => 0x3F53FE69#32
  | 87 => 0x3DCA97E8#32
  | 88 => 0x3FC71A25#32
  | 89 => 0xBC4DBDE9#32
  | 90 => 0xBE821D70#32
  | 91 => 0x3C8F1B23#32
  | 92 => 0x4019D606#32
  | 93 => 0xBF8E4B04#32
  | 94 => 0x3D95EB54#32
  | 95 => 0x3DE2C0A8#32
  | 96 => 0x3F8E47E9#32
  | 97 => 0xBEF5A8E2#32
  | 98 => 0x402079D4#32
  | 99 => 0xBFB8B509#32
  | 100 => 0x3FB7F385#32
  | 101 => 0x3FA536EF#32
  | 102 => 0x3F8BD69A#32
  | 103 => 0xBF3798D6#32
  | 104 => 0x3E227ABF#32
  | 105 => 0x40206234#32
  | 106 => 0x3E1A0F9E#32
  | 107 => 0x3F1BFA18#32
  | 108 => 0x3FFB4AC9#32
  | 109 => 0x3FEE103E#32
  | 110 => 0x40718785#32
  | 111 => 0xBCDEF79E#32
  | 112 => 0xBEB5D87A#32
  | 113 => 0xBEF551FE#32
  | 114 => 0x3D8FCE1C#32
  | 115 => 0xBF20A541#32
  | 116 => 0x40122841#32
  | 117 => 0x3FEDE86C#32
  | 118 => 0x3D7981D7#32
  | 119 => 0x3EB1DE62#32
  | 120 => 0xBF05A512#32
  | 121 => 0x3F3F538B#32
  | 122 => 0x4018B12D#32
  | 123 => 0xBD425F37#32
  | 124 => 0x3EE3B6D6#32
  | 125 => 0x3F844741#32
  | 126 => 0xBF6CE68D#32
  | 127 => 0xBF2AA01E#32
  | _ => 0#32

noncomputable abbrev lit0t0_560 (i : Nat) : BitVec 32 := match i % 128 with
  | 0 => 0x3F82DD18#32
  | 1 => 0x3FBB3244#32
  | 2 => 0x3FF35801#32
  | 3 => 0xBEE84586#32
  | 4 => 0xBF69980C#32
  | 5 => 0xBEB82C44#32
  | 6 => 0x3FE0C9E8#32
  | 7 => 0x3F935CFE#32
  | 8 => 0x3FAA268C#32
  | 9 => 0x403657F4#32
  | 10 => 0x3ECB84F1#32
  | 11 => 0x3F79539B#32
  | 12 => 0x3F92AAAB#32
  | 13 => 0xBF7CFC23#32
  | 14 => 0x4021F698#32
  | 15 => 0x3F0DAC7F#32
  | 16 => 0x3FE2215A#32
  | 17 => 0x406F98B5#32
  | 18 => 0x3F2EA56B#32
  | 19 => 0x3F50055B#32
  | 20 => 0x4011CC1C#32
  | 21 => 0xBF95B80C#32
  | 22 => 0xBF096CA7#32
  | 23 => 0x3FCDDFCA#32
  | 24 => 0xBE8182A7#32
  | 25 => 0x4005FA94#32
  | 26 => 0xBE58ACF6#32
  | 27 => 0x3F62EAE2#32
  | 28 => 0x3FDF58FC#32
  | 29 => 0x3F45BED8#32
  | 30 => 0xBF3CF8AC#32
  | 31 => 0x3F5FE5E6#32
  | 32 => 0x403908B5#32
  | 33 => 0x3F055A80#32
  | 34 => 0x3FCE358B#32
  | 35 => 0x40819A44#32
  | 36 => 0xBF6D5E55#32
  | 37 => 0xBEBAA6A5#32
  | 38 => 0xBE34A7D9#32
  | 39 => 0x3FD87830#32
  | 40 => 0x3E99F7CB#32
  | 41 => 0x3F768D4E#32
  | 42 => 0xBE7D83ED#32
  | 43 => 0xBF900795#32
  | 44 => 0x400526B0#32
  | 45 => 0x3EE504D2#32
  | 46 => 0x400C7691#32
  | 47 => 0x3F82B34A#32
  | 48 => 0x3F97BCD9#32
  | 49 => 0xBFE7ECE3#32
  | 50 => 0x3FDCA2F4#32
  | 51 => 0x3D5F489F#32
  | 52 => 0x3ECF4D2B#32
  | 53 => 0x4015B615#32
  | 54 => 0x3F71488C#32
  | 55 => 0x3D3A04FB#32
  | 56 => 0x3FA06392#32
  | 57 => 0x3FA4ACB1#32
  | 58 => 0x3FA2CC62#32
  | 59 => 0xBF12D470#32
  | 60 => 0x3FD819C1#32
  | 61 => 0xBEFE96AC#32
  | 62 => 0x3FFF907D#32
  | 63 => 0x3F30FFE5#32
  | 64 => 0x3FF84310#32
  | 65 => 0x3F6DD40F#32
  | 66 => 0xBEA953E9#32
  | 67 => 0xC010831A#32
  | 68 => 0xBF903CB0#32
  | 69 => 0x3D8D7FDD#32
  | 70 => 0xBE05D49E#32
  | 71 => 0x400129CB#32
  | 72 => 0x3FE1C7EB#32
  | 73 => 0xBF9EFC91#32
  | 74 => 0x401CB99F#32
  | 75 => 0x3EB325FF#32
  | 76 => 0x401068FC#32
  | 77 => 0xBECC217D#32
  | 78 => 0x40577594#32
  | 79 => 0x3EF1CBDA#32
  | 80 => 0x3CA022B4#32
  | 81 => 0x3F974E47#32
  | 82 => 0x3F88A878#32
  | 83 => 0xBEDCFFFE#32
  | 84 => 0x400AED4A#32
  | 85 => 0x3DF3BD40#32
  | 86 => 0x40323094#32
  | 87 => 0x3F8793E3#32
  | 88 => 0x3FBFFE92#32
  | 89 => 0xBF84AA56#32
  | 90 => 0xBEB7CEB2#32
  | 91 => 0xBE22E2B0#32
  | 92 => 0xBF1FBFE9#32
  | 93 => 0x3FB46832#32
  | 94 => 0x3F44E8E6#32
  | 95 => 0x3D4AE7B8#32
  | 96 => 0x3EADFA82#32
  | 97 => 0x3E4E29D6#32
  | 98 => 0x3FDE5122#32
  | 99 => 0xBF151811#32
  | 100 => 0xBEEC4020#32
  | 101 => 0x3E21EA6B#32
  | 102 => 0x3F5F5440#32
  | 103 => 0x3F12C08F#32
  | 104 => 0xBF96ADA2#32
  | 105 => 0x4004C0C9#32
  | 106 => 0xBE976277#32
  | 107 => 0x3F42284A#32
  | 108 => 0x3E87B247#32
  | 109 => 0x3FF51D68#32
  | 110 => 0x3FA1E84E#32
  | 111 => 0x3F5DB072#32
  | 112 => 0xBE8AEC7E#32
  | 113 => 0x3E0AB71A#32
  | 114 => 0x3F6F68EC#32
  | 115 => 0x40735E92#32
  | 116 => 0x3F8D333A#32
  | 117 => 0xBF32770B#32
  | 118 => 0x3F1543F1#32
  | 119 => 0xBF361451#32
  | 120 => 0xBEF55608#32
  | 121 => 0xBF323093#32
  | 122 => 0x3F38B79E#32
  | 123 => 0x3E80D35F#32
  | 124 => 0xBF5326BA#32
  | 125 => 0xBFE56A98#32
  | 126 => 0x3F30A6E5#32
  | 127 => 0x4007A2CF#32
  | _ => 0#32

noncomputable abbrev lit0t0_561 (i : Nat) : BitVec 32 := match i % 128 with
  | 0 => 0x40514568#32
  | 1 => 0xBF21B75F#32
  | 2 => 0xBF01501B#32
  | 3 => 0x3F08987E#32
  | 4 => 0xBF2645C6#32
  | 5 => 0x3EE8E666#32
  | 6 => 0x4045340B#32
  | 7 => 0x3F167ACA#32
  | 8 => 0xBF9DD8B6#32
  | 9 => 0x3F7A04CD#32
  | 10 => 0x3FC9415E#32
  | 11 => 0xBCCC5625#32
  | 12 => 0x3F820378#32
  | 13 => 0xBF61AA5C#32
  | 14 => 0x3F40A086#32
  | 15 => 0x3F48BEFA#32
  | 16 => 0x3F42F485#32
  | 17 => 0xBF5E6F4B#32
  | 18 => 0x3FCA1A5E#32
  | 19 => 0xBF4A938C#32
  | 20 => 0xBFF651BE#32
  | 21 => 0xBE6D949B#32
  | 22 => 0x4068BA73#32
  | 23 => 0x3F386CFF#32
  | 24 => 0x3F869207#32
  | 25 => 0x3E6BF13E#32
  | 26 => 0x400F0EA1#32
  | 27 => 0xBF9C0CC8#32
  | 28 => 0xBE2E17AD#32
  | 29 => 0x3EFFEB7E#32
  | 30 => 0xBE89D27C#32
  | 31 => 0x400C77EB#32
  | 32 => 0xBEB51DB9#32
  | 33 => 0xBF980C11#32
  | 34 => 0x3FC7BC9E#32
  | 35 => 0x3E301709#32
  | 36 => 0x3F1F85BC#32
  | 37 => 0x3F3BBA7A#32
  | 38 => 0xBF9BC848#32
  | 39 => 0x3F72FD1A#32
  | 40 => 0xBF518A96#32
  | 41 => 0x40181131#32
  | 42 => 0x3EA21EEE#32
  | 43 => 0xBEF03D1A#32
  | 44 => 0xBE159FE2#32
  | 45 => 0x3F35D871#32
  | 46 => 0x40A3F2DF#32
  | 47 => 0xBE76DD4E#32
  | 48 => 0xBE0B427C#32
  | 49 => 0x3FD39E1A#32
  | 50 => 0xBE58F425#32
  | 51 => 0x3F67475E#32
  | 52 => 0x3EC5D803#32
  | 53 => 0x3CE803FA#32
  | 54 => 0xBF0D4E41#32
  | 55 => 0x3D8BCC6F#32
  | 56 => 0x3FA4825C#32
  | 57 => 0x3F92FF26#32
  | 58 => 0x3FACC376#32
  | 59 => 0x40990521#32
  | 60 => 0x3F2B6BDE#32
  | 61 => 0xBE7BA595#32
  | 62 => 0xBCDA0146#32
  | 63 => 0xBF14C7F2#32
  | 64 => 0xBEF0DB36#32
  | 65 => 0xBF4571C5#32
  | 66 => 0x3FEB748F#32
  | 67 => 0x3FC8B096#32
  | 68 => 0xBF0C1CB4#32
  | 69 => 0x3E0BA7D7#32
  | 70 => 0xBD16DBBE#32
  | 71 => 0xBF05B955#32
  | 72 => 0x4022CEBB#32
  | 73 => 0x3FB05E91#32
  | 74 => 0x40050959#32
  | 75 => 0x3F9E06B3#32
  | 76 => 0x3E687B24#32
  | 77 => 0x3FC94CAB#32
  | 78 => 0x3F34C063#32
  | 79 => 0xBECF41B8#32
  | 80 => 0x3F564047#32
  | 81 => 0x3B54F37A#32
  | 82 => 0x3F1B9002#32
  | 83 => 0xBF893F75#32
  | 84 => 0x3F4E08F0#32
  | 85 => 0xBEF40A3A#32
  | 86 => 0x3F04D2F7#32
  | 87 => 0x40332EE2#32
  | 88 => 0xBEEAAB93#32
  | 89 => 0xBF3A6328#32
  | 90 => 0xBF91BA7A#32
  | 91 => 0xBF5DFB58#32
  | 92 => 0x3F5711FF#32
  | 93 => 0x401A121C#32
  | 94 => 0x3F8E0055#32
  | 95 => 0x3E92310E#32
  | 96 => 0x3F95CB14#32
  | 97 => 0x3F53F7A9#32
  | 98 => 0x3F9D204C#32
  | 99 => 0xBF619940#32
  | 100 => 0x3F0B153B#32
  | 101 => 0xBDB3D965#32
  | 102 => 0x401E1462#32
  | 103 => 0xBF66B380#32
  | 104 => 0x3F827066#32
  | 105 => 0x3EBC0137#32
  | 106 => 0x3EAD3E76#32
  | 107 => 0x3FBA42CA#32
  | 108 => 0xBB4E58C0#32
  | 109 => 0xBEA7F26E#32
  | 110 => 0x3F7D5728#32
  | 111 => 0x3FB82D5A#32
  | 112 => 0xBD8DE114#32
  | 113 => 0x3EC1FDE1#32
  | 114 => 0xBF543A0E#32
  | 115 => 0x3F765454#32
  | 116 => 0x3F1F7078#32
  | 117 => 0x3F4FB4D8#32
  | 118 => 0x3ECE9C7C#32
  | 119 => 0x3F3D7AC7#32
  | 120 => 0xBF09612F#32
  | 121 => 0x3F7B59B8#32
  | 122 => 0xBF995EFD#32
  | 123 => 0x3E1EA5AF#32
  | 124 => 0xBE99FA96#32
  | 125 => 0xBF2C84E9#32
  | 126 => 0x3F255C50#32
  | 127 => 0xBEB8D617#32
  | _ => 0#32

noncomputable abbrev lit0t0_562 (i : Nat) : BitVec 32 := match i % 128 with
  | 0 => 0xBF4C3015#32
  | 1 => 0x3F10A86C#32
  | 2 => 0x3F69F868#32
  | 3 => 0x3EA29CF9#32
  | 4 => 0xBF34EB57#32
  | 5 => 0x3F4BBAF3#32
  | 6 => 0x3F98740F#32
  | 7 => 0x3F8FC4AB#32
  | 8 => 0xBFA7E97C#32
  | 9 => 0x3F4F7ADD#32
  | 10 => 0xBF0F6BCC#32
  | 11 => 0x4038336D#32
  | 12 => 0x3FA03845#32
  | 13 => 0xBF165A54#32
  | 14 => 0x3F581DEE#32
  | 15 => 0x3F939A18#32
  | 16 => 0xBE1CA3A7#32
  | 17 => 0xBEDAFF1B#32
  | 18 => 0xBCAC25B3#32
  | 19 => 0x3EFD360A#32
  | 20 => 0xBEBDACA5#32
  | 21 => 0xBD7066DC#32
  | 22 => 0x3EF78D8E#32
  | 23 => 0xBEEAB2BA#32
  | 24 => 0x3F904FF7#32
  | 25 => 0xBDC3B0A1#32
  | 26 => 0x3F89CC77#32
  | 27 => 0x3FCE2A76#32
  | 28 => 0x3F59C5A7#32
  | 29 => 0x3EC7E4B3#32
  | 30 => 0x3FC4060B#32
  | 31 => 0x3FA3AE50#32
  | 32 => 0xBF30EF26#32
  | 33 => 0xBD947F02#32
  | 34 => 0xBF48BF8D#32
  | 35 => 0x40163FEE#32
  | 36 => 0x4039BC4E#32
  | 37 => 0x4027DEB2#32
  | 38 => 0xBF90FDB5#32
  | 39 => 0xBF995962#32
  | 40 => 0xBDE28073#32
  | 41 => 0x3FF27B42#32
  | 42 => 0xBF05BA94#32
  | 43 => 0x3D542546#32
  | 44 => 0x40825F43#32
  | 45 => 0x3E857F41#32
  | 46 => 0xBE178A7A#32
  | 47 => 0x3FA54896#32
  | 48 => 0xBF4C0BDE#32
  | 49 => 0x3F089ACA#32
  | 50 => 0x3F94D582#32
  | 51 => 0x4041E3D3#32
  | 52 => 0xBEEB2DCA#32
  | 53 => 0xBDB69059#32
  | 54 => 0xBF3E6F67#32
  | 55 => 0x3FB881D8#32
  | 56 => 0xBF81D0FC#32
  | 57 => 0xBD42D12B#32
  | 58 => 0x3E9F502D#32
  | 59 => 0x3FC41034#32
  | 60 => 0xBE8B358D#32
  | 61 => 0x3F9FC57B#32
  | 62 => 0xBF9AC68E#32
  | 63 => 0x3DE648FB#32
  | 64 => 0x3FADA20E#32
  | 65 => 0xBF211002#32
  | 66 => 0xBF85FCBF#32
  | 67 => 0x3F0C6E6A#32
  | 68 => 0x3EB44F91#32
  | 69 => 0xBF41A8E7#32
  | 70 => 0xBEFCD0C1#32
  | 71 => 0x3EAEF3A8#32
  | 72 => 0xBF2C90B2#32
  | 73 => 0x3EE84E22#32
  | 74 => 0x3E8BF73D#32
  | 75 => 0x3EEA5DEC#32
  | 76 => 0x3F8E0DB2#32
  | 77 => 0x3D8B8726#32
  | 78 => 0x400A5321#32
  | 79 => 0x3F74A3E7#32
  | 80 => 0xBE8E8E4E#32
  | 81 => 0x3F37ED71#32
  | 82 => 0x3E8A7681#32
  | 83 => 0x40869CE3#32
  | 84 => 0xBE9B1E3F#32
  | 85 => 0x4017788F#32
  | 86 => 0xBF76FEFA#32
  | 87 => 0x3F70354A#32
  | 88 => 0x3DB6A0BC#32
  | 89 => 0xBF86B4C0#32
  | 90 => 0xBD80F064#32
  | 91 => 0xBDA4F904#32
  | 92 => 0xBE206427#32
  | 93 => 0x402EED03#32
  | 94 => 0xBF1B69D5#32
  | 95 => 0xBFAB5366#32
  | 96 => 0xBD888218#32
  | 97 => 0x3F331CF5#32
  | 98 => 0xBF594099#32
  | 99 => 0x3F9C22B7#32
  | 100 => 0xBF411CFB#32
  | 101 => 0x3DB366CE#32
  | 102 => 0xBF10532B#32
  | 103 => 0x405D2571#32
  | 104 => 0xBF064AF6#32
  | 105 => 0xBF838A08#32
  | 106 => 0x3F4B6A81#32
  | 107 => 0x3EF36264#32
  | 108 => 0x3F497BC5#32
  | 109 => 0x3FD6888F#32
  | 110 => 0x3F34ABD3#32
  | 111 => 0x3FCB0FD8#32
  | 112 => 0xBF88341E#32
  | 113 => 0x3F7CAE8F#32
  | 114 => 0x404466F5#32
  | 115 => 0xBF94786F#32
  | 116 => 0x3F1EEAFB#32
  | 117 => 0x3E855E84#32
  | 118 => 0x3EA8BE8E#32
  | 119 => 0x3D0C7CFA#32
  | 120 => 0xBF30FDD7#32
  | 121 => 0x3E9346CB#32
  | 122 => 0x3FCD530A#32
  | 123 => 0xBE58BEE4#32
  | 124 => 0x3FB9461B#32
  | 125 => 0x401A3444#32
  | 126 => 0x3D9F897E#32
  | 127 => 0x401E4DB1#32
  | _ => 0#32

noncomputable abbrev lit0t0_563 (i : Nat) : BitVec 32 := match i % 128 with
  | 0 => 0xBE7293B4#32
  | 1 => 0xBF6ACB8C#32
  | 2 => 0x3F4F0DF0#32
  | 3 => 0xBE489ADC#32
  | 4 => 0x404F078C#32
  | 5 => 0x3FEF02F2#32
  | 6 => 0x3F06AD96#32
  | 7 => 0xBF0C3D8D#32
  | 8 => 0xBF1E46CC#32
  | 9 => 0xBBA4E2A0#32
  | 10 => 0x3EAD1F66#32
  | 11 => 0x401A239C#32
  | 12 => 0xBF3BA808#32
  | 13 => 0x4043B807#32
  | 14 => 0x3F5405EA#32
  | 15 => 0xBE91CF53#32
  | 16 => 0x3FEF99C8#32
  | 17 => 0x3F992DBE#32
  | 18 => 0x3FA71396#32
  | 19 => 0xBF866860#32
  | 20 => 0xBEFDF762#32
  | 21 => 0x4028786B#32
  | 22 => 0x3FB34486#32
  | 23 => 0xBEC6FFAB#32
  | 24 => 0xBCF28179#32
  | 25 => 0x3F6E793A#32
  | 26 => 0x3FE50AB2#32
  | 27 => 0x3EA9F889#32
  | 28 => 0x3FFEDFF7#32
  | 29 => 0x400D1A18#32
  | 30 => 0x3FA4047A#32
  | 31 => 0x3F9264F5#32
  | 32 => 0xBF954292#32
  | 33 => 0x3F2B6285#32
  | 34 => 0x3D8F152A#32
  | 35 => 0x3F06D8BB#32
  | 36 => 0x3FEF0638#32
  | 37 => 0x3FD61E92#32
  | 38 => 0xBF0C7431#32
  | 39 => 0x3FCF5752#32
  | 40 => 0xBF17BFF1#32
  | 41 => 0x3EE616C0#32
  | 42 => 0xBE9910F8#32
  | 43 => 0x3FD64D79#32
  | 44 => 0x3FC075AC#32
  | 45 => 0xBF409FEF#32
  | 46 => 0xBE1CBE94#32
  | 47 => 0x3F865428#32
  | 48 => 0x3FA37142#32
  | 49 => 0x3DBA6B0E#32
  | 50 => 0xBC8800E1#32
  | 51 => 0x3FD9EF18#32
  | 52 => 0x3E797509#32
  | 53 => 0xBF8396ED#32
  | 54 => 0x3FF85E2D#32
  | 55 => 0x3F1E396D#32
  | 56 => 0x3FA072C0#32
  | 57 => 0x3FB95A74#32
  | 58 => 0x3EDDA2BD#32
  | 59 => 0x3D92A47E#32
  | 60 => 0x3ECB6559#32
  | 61 => 0xBF25AD2E#32
  | 62 => 0xBE678B48#32
  | 63 => 0xBF6D420B#32
  | 64 => 0x3E8A8CD1#32
  | 65 => 0x3F3AB3BA#32
  | 66 => 0xBE42FA62#32
  | 67 => 0x40504C70#32
  | 68 => 0xBFB1051C#32
  | 69 => 0x3A90A46D#32
  | 70 => 0x4009B9A8#32
  | 71 => 0x3FDB1A8D#32
  | 72 => 0x3E9FD9AA#32
  | 73 => 0x3E6049C9#32
  | 74 => 0xBF05AB60#32
  | 75 => 0xBEFD4B04#32
  | 76 => 0x3E18D7B1#32
  | 77 => 0xBF0B5D0F#32
  | 78 => 0x406BCA13#32
  | 79 => 0xBFA87952#32
  | 80 => 0xBFA2E93D#32
  | 81 => 0xBED96294#32
  | 82 => 0x407C8EE1#32
  | 83 => 0x3FB73C11#32
  | 84 => 0xBEE368C4#32
  | 85 => 0xBD7CE7CF#32
  | 86 => 0x4093E682#32
  | 87 => 0x3FB04423#32
  | 88 => 0x406B315B#32
  | 89 => 0x3FA293A1#32
  | 90 => 0x3E7D5D4A#32
  | 91 => 0xBEA151D4#32
  | 92 => 0xBB1CFDD3#32
  | 93 => 0x3F057E00#32
  | 94 => 0x3E352D55#32
  | 95 => 0xBF020EB6#32
  | 96 => 0xBD2D04F3#32
  | 97 => 0x3FA01E67#32
  | 98 => 0x400A5423#32
  | 99 => 0x3FE9EE51#32
  | 100 => 0xBF7FBD96#32
  | 101 => 0x3EC154B4#32
  | 102 => 0x40603C9B#32
  | 103 => 0x3FC392B5#32
  | 104 => 0x400F4171#32
  | 105 => 0x3F0417BA#32
  | 106 => 0x3F114E99#32
  | 107 => 0x3FF674E0#32
  | 108 => 0x3FEB9A80#32
  | 109 => 0x3FCBD824#32
  | 110 => 0xBE8BA1C2#32
  | 111 => 0xBF2EB8AF#32
  | 112 => 0xBE86A1C5#32
  | 113 => 0x403864FC#32
  | 114 => 0xBF08DF33#32
  | 115 => 0x3F922461#32
  | 116 => 0x3E94A868#32
  | 117 => 0x3F28E325#32
  | 118 => 0x3F26699E#32
  | 119 => 0xBF8C7EE8#32
  | 120 => 0x3E0F4446#32
  | 121 => 0x3EBB4A16#32
  | 122 => 0xBF0D5C5B#32
  | 123 => 0xBF192943#32
  | 124 => 0xBEF39780#32
  | 125 => 0x406EB957#32
  | 126 => 0xBF2B127B#32
  | 127 => 0xBF037A78#32
  | _ => 0#32

noncomputable abbrev lit0t0_564 (i : Nat) : BitVec 32 := match i % 128 with
  | 0 => 0xBEE6A9FE#32
  | 1 => 0x401BD154#32
  | 2 => 0x3F3790AF#32
  | 3 => 0x3EB2C444#32
  | 4 => 0x4077D236#32
  | 5 => 0xBF4A5257#32
  | 6 => 0x4000111F#32
  | 7 => 0x3F99A74B#32
  | 8 => 0xBCE8EDE8#32
  | 9 => 0x3F258D8A#32
  | 10 => 0xBF3BA3E1#32
  | 11 => 0x3FA67875#32
  | 12 => 0x3CBB99BC#32
  | 13 => 0xBDFAC865#32
  | 14 => 0x3F93E754#32
  | 15 => 0xBF675E49#32
  | 16 => 0xBF594C0B#32
  | 17 => 0xBF2BBF30#32
  | 18 => 0xBF90ED24#32
  | 19 => 0xBF704348#32
  | 20 => 0x3F2A6DFB#32
  | 21 => 0xBE74A40D#32
  | 22 => 0x3E3E59F2#32
  | 23 => 0xBEF56614#32
  | 24 => 0xBF14B538#32
  | 25 => 0x3D1BDF9A#32
  | 26 => 0xBF737A58#32
  | 27 => 0xBF034A58#32
  | 28 => 0xBEDF375A#32
  | 29 => 0xBF428921#32
  | 30 => 0x3F089D22#32
  | 31 => 0x4032E4E4#32
  | 32 => 0x3E93CAA3#32
  | 33 => 0xBF270D41#32
  | 34 => 0x40119AC4#32
  | 35 => 0x3FAD8D48#32
  | 36 => 0x3D028373#32
  | 37 => 0xBEE016E0#32
  | 38 => 0x3EC72027#32
  | 39 => 0xBF8A4BF4#32
  | 40 => 0xBE7020B9#32
  | 41 => 0x4089C4F2#32
  | 42 => 0x3FD41F0E#32
  | 43 => 0xBE5E5580#32
  | 44 => 0x3F1793B9#32
  | 45 => 0xBFEF8529#32
  | 46 => 0x3F98028F#32
  | 47 => 0x3F9DCA8F#32
  | 48 => 0x403868D0#32
  | 49 => 0xBE284677#32
  | 50 => 0x3F920F7D#32
  | 51 => 0xBE0CE2B2#32
  | 52 => 0xBF063646#32
  | 53 => 0x3CD38682#32
  | 54 => 0x408151DB#32
  | 55 => 0x3F729760#32
  | 56 => 0x3F0F0F22#32
  | 57 => 0xBEF861B1#32
  | 58 => 0xBE95BEE9#32
  | 59 => 0x3F4103FA#32
  | 60 => 0xBFC70E33#32
  | 61 => 0xBE9806B9#32
  | 62 => 0xBEDF777F#32
  | 63 => 0x3FE5092C#32
  | 64 => 0x3D739100#32
  | 65 => 0x3E88FFAF#32
  | 66 => 0x3F98647A#32
  | 67 => 0xBEC866D7#32
  | 68 => 0xBE33B121#32
  | 69 => 0x3FA34A88#32
  | 70 => 0x3F135DFC#32
  | 71 => 0x4036B784#32
  | 72 => 0x406CE1B8#32
  | 73 => 0x3F823E5E#32
  | 74 => 0x4021A0CD#32
  | 75 => 0xBF67417C#32
  | 76 => 0xBEFE0558#32
  | 77 => 0x4000FB34#32
  | 78 => 0x3E01D79B#32
  | 79 => 0xBEB0DFF9#32
  | 80 => 0xBF55D3D4#32
  | 81 => 0xBF676236#32
  | 82 => 0x3FBE04C9#32
  | 83 => 0x3EC552D6#32
  | 84 => 0x403A9A02#32
  | 85 => 0x3F6C4ED6#32
  | 86 => 0x3FBE0340#32
  | 87 => 0x3F06BF78#32
  | 88 => 0x404F8943#32
  | 89 => 0x3F480811#32
  | 90 => 0x3F1D1211#32
  | 91 => 0xBF1BAE86#32
  | 92 => 0x40275AA6#32
  | 93 => 0x3D7557B8#32
  | 94 => 0xBFCA96CB#32
  | 95 => 0x3F0AF2C2#32
  | 96 => 0x3E7BEEB2#32
  | 97 => 0x3BAD724F#32
  | 98 => 0x3F1B562C#32
  | 99 => 0x3F28681E#32
  | 100 => 0x3FD8A248#32
  | 101 => 0xBDD54586#32
  | 102 => 0x3E9B3021#32
  | 103 => 0x3FAE2484#32
  | 104 => 0xBF028EEB#32
  | 105 => 0xBF59ED77#32
  | 106 => 0x3E0A3530#32
  | 107 => 0x3F955538#32
  | 108 => 0x3F3E66A6#32
  | 109 => 0xBF31EC6F#32
  | 110 => 0x3F18A8CB#32
  | 111 => 0x40853B11#32
  | 112 => 0xBFD36C05#32
  | 113 => 0xBE6AFD64#32
  | 114 => 0xBF7FD798#32
  | 115 => 0x3F386A77#32
  | 116 => 0x3F1775C5#32
  | 117 => 0xBFDCD008#32
  | 118 => 0x40200D03#32
  | 119 => 0xBF2C4828#32
  | 120 => 0x3ED71DB0#32
  | 121 => 0xBE9D2C10#32
  | 122 => 0x3F036992#32
  | 123 => 0xBF2B97A2#32
  | 124 => 0x3FAC776C#32
  | 125 => 0x3FC5F80A#32
  | 126 => 0x3F0EFEC5#32
  | 127 => 0xBDB49B04#32
  | _ => 0#32

noncomputable abbrev lit0t0_565 (i : Nat) : BitVec 32 := match i % 128 with
  | 0 => 0xBE5632D2#32
  | 1 => 0x40158E3C#32
  | 2 => 0xBFCE3F29#32
  | 3 => 0x3F9C59CB#32
  | 4 => 0x3A5C0FA3#32
  | 5 => 0xBF1D8DC0#32
  | 6 => 0x3F8CAFBB#32
  | 7 => 0x3EF02F0B#32
  | 8 => 0xBF9FFBC0#32
  | 9 => 0xBEE57C3E#32
  | 10 => 0xBD3B7F8E#32
  | 11 => 0x3EE5A960#32
  | 12 => 0xBF0FBF72#32
  | 13 => 0x3FF8D662#32
  | 14 => 0xBECC610F#32
  | 15 => 0xBF5B04BA#32
  | 16 => 0x3DF8EF3A#32
  | 17 => 0x3FC78A43#32
  | 18 => 0xBF887407#32
  | 19 => 0x3F1D1335#32
  | 20 => 0x3EEF605A#32
  | 21 => 0x3F18A08C#32
  | 22 => 0xBF0C0752#32
  | 23 => 0x400B2470#32
  | 24 => 0xBF140B36#32
  | 25 => 0x3F85D88C#32
  | 26 => 0x3DF9742C#32
  | 27 => 0x4011D484#32
  | 28 => 0x3EA95F17#32
  | 29 => 0xBF2A038E#32
  | 30 => 0x3F681211#32
  | 31 => 0xBCE6716A#32
  | 32 => 0x3F621C86#32
  | 33 => 0x40046BFC#32
  | 34 => 0x3FE20710#32
  | 35 => 0xBF341471#32
  | 36 => 0x400055D8#32
  | 37 => 0x3F2C7A15#32
  | 38 => 0x3E007A77#32
  | 39 => 0x3F37F6F0#32
  | 40 => 0x3F82953E#32
  | 41 => 0x40098DE8#32
  | 42 => 0x3EC02031#32
  | 43 => 0x3FA5A561#32
  | 44 => 0x3F1AD423#32
  | 45 => 0xBD254A9C#32
  | 46 => 0x3F2A7359#32
  | 47 => 0x3EA636EA#32
  | 48 => 0x3FCF9AC7#32
  | 49 => 0x3FF943A8#32
  | 50 => 0xBE9DAFC1#32
  | 51 => 0x3FC3F0A2#32
  | 52 => 0x3F4C27C6#32
  | 53 => 0x3C8CA308#32
  | 54 => 0x40363040#32
  | 55 => 0x3F63C4A5#32
  | 56 => 0x400F9DD2#32
  | 57 => 0xBF1082D5#32
  | 58 => 0xBF4EAE64#32
  | 59 => 0x3ED2E683#32
  | 60 => 0x3FB4327F#32
  | 61 => 0x3F3C67B7#32
  | 62 => 0x3F270F5B#32
  | 63 => 0xBF82CABA#32
  | 64 => 0xBEAF80E8#32
  | 65 => 0x3EAF0AE4#32
  | 66 => 0xBF7F2D56#32
  | 67 => 0x3FC95BE5#32
  | 68 => 0xBF17A1A2#32
  | 69 => 0xBF9AAC25#32
  | 70 => 0x3F8B5512#32
  | 71 => 0xBD3F6EC0#32
  | 72 => 0xBFF36E26#32
  | 73 => 0x3F194958#32
  | 74 => 0x3FBBA5A3#32
  | 75 => 0xBD8A8076#32
  | 76 => 0x3F137EBB#32
  | 77 => 0x4015AFBA#32
  | 78 => 0x40195E8C#32
  | 79 => 0x3F8B624B#32
  | 80 => 0x40041C38#32
  | 81 => 0x3EA27CF9#32
  | 82 => 0x3ECEFEDC#32
  | 83 => 0xBE07D0AF#32
  | 84 => 0x4016AAC2#32
  | 85 => 0xBEFC88A8#32
  | 86 => 0xBF6F8E25#32
  | 87 => 0xBCA0AD35#32
  | 88 => 0xBE9F521E#32
  | 89 => 0x3EE9BA1C#32
  | 90 => 0xBDFA8725#32
  | 91 => 0xBFB430A4#32
  | 92 => 0xBE031E59#32
  | 93 => 0x3FC4EA3F#32
  | 94 => 0x3F009842#32
  | 95 => 0xBE4A8C79#32
  | 96 => 0xBF5EA793#32
  | 97 => 0x3F3A1AAF#32
  | 98 => 0xBE8E970C#32
  | 99 => 0x3FAA478B#32
  | 100 => 0xBF3A84DD#32
  | 101 => 0x3FBA7DFA#32
  | 102 => 0xBE17A8A3#32
  | 103 => 0x3F9C563B#32
  | 104 => 0x3FCE5AE4#32
  | 105 => 0x3DBBC68D#32
  | 106 => 0x3FA0C9F8#32
  | 107 => 0x3ECAA9F4#32
  | 108 => 0xBE49A035#32
  | 109 => 0x3E87602A#32
  | 110 => 0x3FB712DB#32
  | 111 => 0x3E6B3C81#32
  | 112 => 0x3F43AEC2#32
  | 113 => 0xBF9E263C#32
  | 114 => 0xBF37E4A4#32
  | 115 => 0xBF036C6C#32
  | 116 => 0x3EC37CAD#32
  | 117 => 0xBF01F9FB#32
  | 118 => 0x3E2C1987#32
  | 119 => 0x3F93844B#32
  | 120 => 0x3FA42C6C#32
  | 121 => 0xBF00CDD2#32
  | 122 => 0x40F077CF#32
  | 123 => 0xBF590998#32
  | 124 => 0x402A21B9#32
  | 125 => 0xBF62CB1B#32
  | 126 => 0x3FA4244C#32
  | 127 => 0xBEDADD29#32
  | _ => 0#32

noncomputable abbrev lit0t0_566 (i : Nat) : BitVec 32 := match i % 128 with
  | 0 => 0x3E7F697D#32
  | 1 => 0x3EBFEFDE#32
  | 2 => 0x3EE005F3#32
  | 3 => 0x3FB7BB34#32
  | 4 => 0x3F91587A#32
  | 5 => 0x4028281B#32
  | 6 => 0x3F6AAA2F#32
  | 7 => 0xBECB84BC#32
  | 8 => 0x3E6410F1#32
  | 9 => 0xBE9065FE#32
  | 10 => 0x3E0DF592#32
  | 11 => 0x3EFE672C#32
  | 12 => 0x4053B08E#32
  | 13 => 0xBF6C6284#32
  | 14 => 0xBFB21DE2#32
  | 15 => 0x3F97D3CE#32
  | 16 => 0x3E5300E5#32
  | 17 => 0x3F851C92#32
  | 18 => 0xBF6B7E21#32
  | 19 => 0x3FB20192#32
  | 20 => 0x40A6080C#32
  | 21 => 0xBED9BFD8#32
  | 22 => 0x3FBE7A34#32
  | 23 => 0x403C66D4#32
  | 24 => 0x3F75908C#32
  | 25 => 0x3FC278A8#32
  | 26 => 0x3EBC20D5#32
  | 27 => 0x3F6CA1C1#32
  | 28 => 0x3F0FA253#32
  | 29 => 0xBF47843F#32
  | 30 => 0x3FC5B8F9#32
  | 31 => 0x3FB14C7B#32
  | 32 => 0x3EA8A096#32
  | 33 => 0x40397205#32
  | 34 => 0x3E21FD4E#32
  | 35 => 0x40160093#32
  | 36 => 0x40204715#32
  | 37 => 0x3FE94BDC#32
  | 38 => 0xBE99C767#32
  | 39 => 0x3F880D82#32
  | 40 => 0x3F5E57A1#32
  | 41 => 0x3F16EF61#32
  | 42 => 0x3FF7E55F#32
  | 43 => 0xBEB036D2#32
  | 44 => 0x3FE49730#32
  | 45 => 0x3EEB0F9E#32
  | 46 => 0x3E73C854#32
  | 47 => 0x3D657802#32
  | 48 => 0x3FB41F94#32
  | 49 => 0x3E250B91#32
  | 50 => 0xBE83D3EE#32
  | 51 => 0xBF0C03D6#32
  | 52 => 0x4050A5B8#32
  | 53 => 0x3F81DA13#32
  | 54 => 0xBE863737#32
  | 55 => 0x3EDA12C5#32
  | 56 => 0x3FE1883B#32
  | 57 => 0x4017C348#32
  | 58 => 0x3F410E8E#32
  | 59 => 0x3F7EDBD4#32
  | 60 => 0x3ECF18AF#32
  | 61 => 0xBD72DE3E#32
  | 62 => 0x4009CEBA#32
  | 63 => 0xBE8FA81D#32
  | 64 => 0xBFAD02CD#32
  | 65 => 0x3EC24ED0#32
  | 66 => 0xBF3EF7FB#32
  | 67 => 0x3F77256A#32
  | 68 => 0xBEB975CE#32
  | 69 => 0x3ED4459C#32
  | 70 => 0x3FF8BFD6#32
  | 71 => 0x3F1986A3#32
  | 72 => 0xBF280609#32
  | 73 => 0x3F3D2700#32
  | 74 => 0x3F6B45B0#32
  | 75 => 0xBE04B76A#32
  | 76 => 0x3FC604C6#32
  | 77 => 0x3F334F7F#32
  | 78 => 0x4013505C#32
  | 79 => 0x3F473FE4#32
  | 80 => 0xBECBA563#32
  | 81 => 0x3F33C581#32
  | 82 => 0x3E09BF30#32
  | 83 => 0x3F38F63A#32
  | 84 => 0x4029268D#32
  | 85 => 0x4042CF9A#32
  | 86 => 0x3FFB3EF1#32
  | 87 => 0xBF3F6F93#32
  | 88 => 0xBF410DFC#32
  | 89 => 0xBF4CBD2B#32
  | 90 => 0xBCBD3702#32
  | 91 => 0x408EAFBE#32
  | 92 => 0x3F799888#32
  | 93 => 0xBFC38CB7#32
  | 94 => 0x3EC6B01C#32
  | 95 => 0xBD8A6E10#32
  | 96 => 0x4022E137#32
  | 97 => 0xBE4D8548#32
  | 98 => 0x3DA06B9C#32
  | 99 => 0x3FC321E5#32
  | 100 => 0x3ED2B772#32
  | 101 => 0x3F7EFAA3#32
  | 102 => 0x3E77B8BD#32
  | 103 => 0xBEC0CC95#32
  | 104 => 0xBF50A414#32
  | 105 => 0xBE39F332#32
  | 106 => 0x3F0EB729#32
  | 107 => 0xBF3B868E#32
  | 108 => 0xBF8E7C18#32
  | 109 => 0xBF51E078#32
  | 110 => 0xBE860323#32
  | 111 => 0x3F8F0B88#32
  | 112 => 0x3E6B39A2#32
  | 113 => 0xBF486EF2#32
  | 114 => 0x3F2EC32B#32
  | 115 => 0x403B512F#32
  | 116 => 0xBF542BDE#32
  | 117 => 0xBE57DF8C#32
  | 118 => 0x4001EFAF#32
  | 119 => 0x3F07EF79#32
  | 120 => 0x401640C8#32
  | 121 => 0xBC78BF26#32
  | 122 => 0xBC97BDFE#32
  | 123 => 0xBF6AD8AA#32
  | 124 => 0x404A26E2#32
  | 125 => 0xBFA7D288#32
  | 126 => 0x40BD04A4#32
  | 127 => 0x3F911E59#32
  | _ => 0#32

noncomputable abbrev lit0t0_567 (i : Nat) : BitVec 32 := match i % 128 with
  | 0 => 0xBF5B5488#32
  | 1 => 0x3F78FF66#32
  | 2 => 0x3F0CB46E#32
  | 3 => 0xBEFAEA4A#32
  | 4 => 0xBF9EA80A#32
  | 5 => 0x3F4C330C#32
  | 6 => 0x3FEAD680#32
  | 7 => 0x3FA6936E#32
  | 8 => 0x3FBE699F#32
  | 9 => 0xBEDDB93D#32
  | 10 => 0xBE4216FD#32
  | 11 => 0xBE1A2491#32
  | 12 => 0x3BB304F5#32
  | 13 => 0x3ED6F3FD#32
  | 14 => 0x3F96C948#32
  | 15 => 0xBEF9A70A#32
  | 16 => 0xBCCD6354#32
  | 17 => 0xBF0F9F5F#32
  | 18 => 0x3EAB5632#32
  | 19 => 0x400AADC6#32
  | 20 => 0x3FC84722#32
  | 21 => 0x3FBB39BF#32
  | 22 => 0xBF8CDF96#32
  | 23 => 0xBE86B91B#32
  | 24 => 0xBF487133#32
  | 25 => 0x3F1DC7B8#32
  | 26 => 0xBE2C68E7#32
  | 27 => 0x3EB1B2A3#32
  | 28 => 0x3FC51054#32
  | 29 => 0xBF2D6C33#32
  | 30 => 0x3FCCB740#32
  | 31 => 0xBFBAF49A#32
  | 32 => 0xBD9CD0B2#32
  | 33 => 0x4012A73E#32
  | 34 => 0xBEE48512#32
  | 35 => 0x3FBC26B9#32
  | 36 => 0x4026FF22#32
  | 37 => 0xBF8F2CEB#32
  | 38 => 0x3E8176C5#32
  | 39 => 0xBE02E504#32
  | 40 => 0x3F309C39#32
  | 41 => 0x3FD94CC7#32
  | 42 => 0xBF0B17AF#32
  | 43 => 0x3F9237D3#32
  | 44 => 0x3F9769DD#32
  | 45 => 0x3FFF1AD9#32
  | 46 => 0x3FB0A670#32
  | 47 => 0xBEC616D0#32
  | 48 => 0x400C5A71#32
  | 49 => 0xBF14A22F#32
  | 50 => 0x401D442D#32
  | 51 => 0x3E28D42F#32
  | 52 => 0x3F038C27#32
  | 53 => 0xBF2920DA#32
  | 54 => 0x3F544C29#32
  | 55 => 0x3EBAA9A8#32
  | 56 => 0xBE30312A#32
  | 57 => 0x3FABEB0C#32
  | 58 => 0xBF66F92C#32
  | 59 => 0xBF9B166D#32
  | 60 => 0x4023F0D7#32
  | 61 => 0xBE70141E#32
  | 62 => 0x3F6E7758#32
  | 63 => 0xBE4B6463#32
  | 64 => 0xBA7CC0CC#32
  | 65 => 0x3DB97673#32
  | 66 => 0x3DBD8D04#32
  | 67 => 0xBF2FF755#32
  | 68 => 0x3F8E8AB4#32
  | 69 => 0xBEA1AD98#32
  | 70 => 0x407CBF94#32
  | 71 => 0xBF886752#32
  | 72 => 0x403742A2#32
  | 73 => 0x3F884C99#32
  | 74 => 0xBEAF2E82#32
  | 75 => 0xBF0FFE24#32
  | 76 => 0x3F70B0B2#32
  | 77 => 0xBEC63506#32
  | 78 => 0x3F56084B#32
  | 79 => 0xBF649229#32
  | 80 => 0x405A4A61#32
  | 81 => 0xBE396F8D#32
  | 82 => 0x3FD16DDA#32
  | 83 => 0x3F0C32E2#32
  | 84 => 0x3FB6210F#32
  | 85 => 0x3F41A05E#32
  | 86 => 0x3FC8232B#32
  | 87 => 0x40394E06#32
  | 88 => 0x3F488D09#32
  | 89 => 0x3E2A7ABA#32
  | 90 => 0x3F8E5978#32
  | 91 => 0x3FA5CED8#32
  | 92 => 0xBEB6C67A#32
  | 93 => 0x3D4B695E#32
  | 94 => 0x3E004BB9#32
  | 95 => 0xBF452CA1#32
  | 96 => 0x3FF68470#32
  | 97 => 0xBE50C694#32
  | 98 => 0x3E42665D#32
  | 99 => 0x3FA2DC06#32
  | 100 => 0x3FB8911E#32
  | 101 => 0x3EF23097#32
  | 102 => 0xBE5A19FA#32
  | 103 => 0x4004A67D#32
  | 104 => 0xBC9C1082#32
  | 105 => 0xBEBAFC6F#32
  | 106 => 0x3FA0F363#32
  | 107 => 0xBF24E310#32
  | 108 => 0x3FD26E4E#32
  | 109 => 0x3FAB988D#32
  | 110 => 0x3F4292E2#32
  | 111 => 0xBF4C3F0F#32
  | 112 => 0xBF489848#32
  | 113 => 0x3F0497E0#32
  | 114 => 0x3F9467FD#32
  | 115 => 0x3F86A2BC#32
  | 116 => 0x402D5B45#32
  | 117 => 0xBFC3B9C9#32
  | 118 => 0xBF1DF4ED#32
  | 119 => 0x4016BB0C#32
  | 120 => 0xBF2B5B65#32
  | 121 => 0x3FAD4BF6#32
  | 122 => 0x3E480947#32
  | 123 => 0x3F13C989#32
  | 124 => 0xBDB02B6E#32
  | 125 => 0x3EFA538A#32
  | 126 => 0xBE2CD6EB#32
  | 127 => 0x3F88F3A8#32
  | _ => 0#32

noncomputable abbrev lit0t0_568 (i : Nat) : BitVec 32 := match i % 128 with
  | 0 => 0x4001E787#32
  | 1 => 0xBE22E139#32
  | 2 => 0x3E3CDD54#32
  | 3 => 0x3F98EBD4#32
  | 4 => 0xBF0735A6#32
  | 5 => 0x3F6D3374#32
  | 6 => 0x3F430A5A#32
  | 7 => 0x3F848B3B#32
  | 8 => 0x3F402122#32
  | 9 => 0x3CAAC585#32
  | 10 => 0x3FA30DA6#32
  | 11 => 0x3FCB47FA#32
  | 12 => 0x3FC807F7#32
  | 13 => 0xBF3E7086#32
  | 14 => 0x3F8D3497#32
  | 15 => 0x3F920EEE#32
  | 16 => 0x40761009#32
  | 17 => 0xBF925C00#32
  | 18 => 0x3FAB34A0#32
  | 19 => 0x3F7A4674#32
  | 20 => 0x3FB5C23A#32
  | 21 => 0x3F82C8B3#32
  | 22 => 0x3F2E1693#32
  | 23 => 0x3E0336C5#32
  | 24 => 0x3E936114#32
  | 25 => 0x3FF43717#32
  | 26 => 0x3FD00E8C#32
  | 27 => 0x3E4C004F#32
  | 28 => 0x40261F08#32
  | 29 => 0x3F987158#32
  | 30 => 0xBEC1A1CD#32
  | 31 => 0x3F1F7797#32
  | 32 => 0xBF1D143D#32
  | 33 => 0x3FAD62AF#32
  | 34 => 0x3E281E75#32
  | 35 => 0x3EB482EC#32
  | 36 => 0x3F576897#32
  | 37 => 0xBD97C2D0#32
  | 38 => 0x3EEC0670#32
  | 39 => 0xBF49C0F5#32
  | 40 => 0xBD55F6A0#32
  | 41 => 0x3F19C87D#32
  | 42 => 0x3EFC6784#32
  | 43 => 0x3F846B9F#32
  | 44 => 0xBE903614#32
  | 45 => 0x4033C7FC#32
  | 46 => 0x40274662#32
  | 47 => 0xBF1231E0#32
  | 48 => 0x3F8B480A#32
  | 49 => 0x403B4DC3#32
  | 50 => 0x3F9086B0#32
  | 51 => 0x3F37E8D2#32
  | 52 => 0x4026D7B9#32
  | 53 => 0x3E20B616#32
  | 54 => 0xBE185E79#32
  | 55 => 0xBE554311#32
  | 56 => 0xBF00D1A5#32
  | 57 => 0x3E844AEF#32
  | 58 => 0x3FA54D05#32
  | 59 => 0xBF726DD4#32
  | 60 => 0x4083C170#32
  | 61 => 0x3E398614#32
  | 62 => 0x3F086571#32
  | 63 => 0x3E912300#32
  | 64 => 0x3E95D60E#32
  | 65 => 0x3F5E5BE0#32
  | 66 => 0x3F357B79#32
  | 67 => 0x3F27E2A6#32
  | 68 => 0x3BC7CD20#32
  | 69 => 0x3FD4357E#32
  | 70 => 0xBE584849#32
  | 71 => 0xBF1C4097#32
  | 72 => 0x409588DE#32
  | 73 => 0xBF509B1C#32
  | 74 => 0xBEF5B524#32
  | 75 => 0x3DB8DA67#32
  | 76 => 0x3DA401C7#32
  | 77 => 0x3DD959C8#32
  | 78 => 0x3FA577BF#32
  | 79 => 0xBF1D91F2#32
  | 80 => 0x40610107#32
  | 81 => 0x3FDA6077#32
  | 82 => 0x3F02966A#32
  | 83 => 0x3F0391D5#32
  | 84 => 0x403A302D#32
  | 85 => 0x3C7703CE#32
  | 86 => 0xBE8DFB89#32
  | 87 => 0xBFB392CD#32
  | 88 => 0x4026BC7E#32
  | 89 => 0xBF3E1672#32
  | 90 => 0xBF82E974#32
  | 91 => 0x3F9F6482#32
  | 92 => 0x4037B3F9#32
  | 93 => 0xBFE40454#32
  | 94 => 0xBF7B30FE#32
  | 95 => 0xBF7EBC24#32
  | 96 => 0xBF047AAE#32
  | 97 => 0x3FEC8C14#32
  | 98 => 0xBE282E9A#32
  | 99 => 0xBEE8D252#32
  | 100 => 0xBD6DE65E#32
  | 101 => 0xBEC83F7B#32
  | 102 => 0x3EC22218#32
  | 103 => 0xBED082FF#32
  | 104 => 0x3EE428BD#32
  | 105 => 0x3F6A98C9#32
  | 106 => 0xBE8C483A#32
  | 107 => 0x40238937#32
  | 108 => 0x3FA038F0#32
  | 109 => 0xBE8530F2#32
  | 110 => 0xBF4636AD#32
  | 111 => 0x4053705C#32
  | 112 => 0x3F535D58#32
  | 113 => 0x3F209F29#32
  | 114 => 0x3F282186#32
  | 115 => 0x3E3D0577#32
  | 116 => 0xBEF5EE85#32
  | 117 => 0x3F9DB452#32
  | 118 => 0xBE91A43E#32
  | 119 => 0xBF6A4AE4#32
  | 120 => 0xBF4E6C61#32
  | 121 => 0x3E93F3FA#32
  | 122 => 0x3F89C2B3#32
  | 123 => 0xBDD1142B#32
  | 124 => 0x3FA19E0A#32
  | 125 => 0xBF0988A7#32
  | 126 => 0x3F0AEF58#32
  | 127 => 0xBF2CA4BA#32
  | _ => 0#32

noncomputable abbrev lit0t0_569 (i : Nat) : BitVec 32 := match i % 128 with
  | 0 => 0x3E0A3A40#32
  | 1 => 0xBF34F68B#32
  | 2 => 0xBDB1A749#32
  | 3 => 0x3EBD5E1D#32
  | 4 => 0xBE8686A4#32
  | 5 => 0xBEDBA23A#32
  | 6 => 0xBF0711C5#32
  | 7 => 0x3FE4B957#32
  | 8 => 0x3FACCA9B#32
  | 9 => 0xBE14F63C#32
  | 10 => 0xBF08ECE0#32
  | 11 => 0x3DF794E8#32
  | 12 => 0x3F43E4D1#32
  | 13 => 0x400D09F7#32
  | 14 => 0xBFA3C571#32
  | 15 => 0x3F2BD72F#32
  | 16 => 0x3FC3FC94#32
  | 17 => 0x3D9535ED#32
  | 18 => 0xBFC5DB08#32
  | 19 => 0x40007A1D#32
  | 20 => 0x3F291A59#32
  | 21 => 0x401875A6#32
  | 22 => 0xBF42A686#32
  | 23 => 0x3E218DA5#32
  | 24 => 0x3F683BC2#32
  | 25 => 0x3F37A453#32
  | 26 => 0x3F43252F#32
  | 27 => 0x3EF07940#32
  | 28 => 0x3F926125#32
  | 29 => 0x3FFE5B3D#32
  | 30 => 0x3D9098EE#32
  | 31 => 0x3FD0D577#32
  | 32 => 0x3F1FBA0C#32
  | 33 => 0x3F87CA10#32
  | 34 => 0x3F92C3E7#32
  | 35 => 0x4032484D#32
  | 36 => 0x40208033#32
  | 37 => 0x3EF60EAF#32
  | 38 => 0x3F040484#32
  | 39 => 0x3F0F61A8#32
  | 40 => 0x3DFC0338#32
  | 41 => 0x4071892C#32
  | 42 => 0xBE4D758F#32
  | 43 => 0x40285BA2#32
  | 44 => 0x3FC691A7#32
  | 45 => 0xBF6D00E1#32
  | 46 => 0x3EAD15F7#32
  | 47 => 0x3F0F0DAE#32
  | 48 => 0x3F744A4C#32
  | 49 => 0x3E82BAD0#32
  | 50 => 0x3E6FA83E#32
  | 51 => 0x3EC7B924#32
  | 52 => 0x3FDD1E92#32
  | 53 => 0xBE3528C8#32
  | 54 => 0x40899B9D#32
  | 55 => 0x3D59B946#32
  | 56 => 0x3F4D03D4#32
  | 57 => 0xBEA413DA#32
  | 58 => 0x3FA6C924#32
  | 59 => 0xBD63B793#32
  | 60 => 0xBF62A7C3#32
  | 61 => 0xBDD74537#32
  | 62 => 0x3F9F5AF8#32
  | 63 => 0xBED183D7#32
  | 64 => 0xBFCD67CD#32
  | 65 => 0x3F8BC02A#32
  | 66 => 0x40250BC4#32
  | 67 => 0xBD6A6E54#32
  | 68 => 0x400397B6#32
  | 69 => 0x3F010448#32
  | 70 => 0x3F14E14F#32
  | 71 => 0x3E8746F2#32
  | 72 => 0x3E548FA0#32
  | 73 => 0x3FCE2A1A#32
  | 74 => 0x3FBBB121#32
  | 75 => 0x3FA38859#32
  | 76 => 0xBF499F8E#32
  | 77 => 0xBEAA8395#32
  | 78 => 0xBE4AEB90#32
  | 79 => 0xBF826B3C#32
  | 80 => 0xBF8F5E96#32
  | 81 => 0x3F91158A#32
  | 82 => 0xBF16CF88#32
  | 83 => 0xBF261285#32
  | 84 => 0x3EA91133#32
  | 85 => 0xBF0BD8F0#32
  | 86 => 0x40E83634#32
  | 87 => 0x3F11E705#32
  | 88 => 0x3F76EBAA#32
  | 89 => 0x3EF0F28A#32
  | 90 => 0xBF9D0333#32
  | 91 => 0x3FA46EFA#32
  | 92 => 0x3ECCAA88#32
  | 93 => 0x4002404F#32
  | 94 => 0x3F9D7454#32
  | 95 => 0x3EFF1CD0#32
  | 96 => 0xBF3D4183#32
  | 97 => 0x3DD00CC0#32
  | 98 => 0x3DF8EA40#32
  | 99 => 0x4091E8D8#32
  | 100 => 0xBEF1B23A#32
  | 101 => 0x403833F1#32
  | 102 => 0xBF689D25#32
  | 103 => 0x3EE70678#32
  | 104 => 0xBE4A3488#32
  | 105 => 0xBE2838D6#32
  | 106 => 0xBD9D4653#32
  | 107 => 0xBF8819CD#32
  | 108 => 0x3F44CA2B#32
  | 109 => 0x3E941D7F#32
  | 110 => 0xBF7514DA#32
  | 111 => 0x3FD07997#32
  | 112 => 0x4042D202#32
  | 113 => 0xBEC8ACEA#32
  | 114 => 0x3FB3E355#32
  | 115 => 0x40542E2B#32
  | 116 => 0xBF90440F#32
  | 117 => 0x3FA6270C#32
  | 118 => 0x401800CD#32
  | 119 => 0x3EC74B5F#32
  | 120 => 0xBEFD2E16#32
  | 121 => 0x406E94F0#32
  | 122 => 0x3D5F2C60#32
  | 123 => 0x3FC55AAC#32
  | 124 => 0xBF393201#32
  | 125 => 0x3FDE9784#32
  | 126 => 0x3FDD6B41#32
  | 127 => 0xBF43261A#32
  | _ => 0#32

noncomputable abbrev lit0t0_570 (i : Nat) : BitVec 32 := match i % 128 with
  | 0 => 0xBEFF3A6A#32
  | 1 => 0x40380DA0#32
  | 2 => 0x3F14A764#32
  | 3 => 0xBEB70792#32
  | 4 => 0xBF63AB82#32
  | 5 => 0x401CDD97#32
  | 6 => 0x3F56A825#32
  | 7 => 0xBFA5B414#32
  | 8 => 0xBFC339B7#32
  | 9 => 0x3E4178E3#32
  | 10 => 0xBF1EC822#32
  | 11 => 0xBF26D3BB#32
  | 12 => 0x402342F0#32
  | 13 => 0xBFA061AC#32
  | 14 => 0x3E082F59#32
  | 15 => 0xBE7A8FB6#32
  | 16 => 0x3E95D904#32
  | 17 => 0x3FBFF584#32
  | 18 => 0x3F418C70#32
  | 19 => 0x3EF4CAF3#32
  | 20 => 0x3F8C8472#32
  | 21 => 0x3F1D1936#32
  | 22 => 0x3F381580#32
  | 23 => 0x3E889147#32
  | 24 => 0xBF5C4614#32
  | 25 => 0x3F78E816#32
  | 26 => 0xBFBAFE3E#32
  | 27 => 0x400378B3#32
  | 28 => 0xBDE17853#32
  | 29 => 0x405BC597#32
  | 30 => 0x3F2765E9#32
  | 31 => 0xBEE84D64#32
  | 32 => 0x3F0D1A26#32
  | 33 => 0x402041A4#32
  | 34 => 0xBF8AD796#32
  | 35 => 0x3F0B718F#32
  | 36 => 0x3FA8036B#32
  | 37 => 0x4013FF8D#32
  | 38 => 0xBF0A885A#32
  | 39 => 0x402AC233#32
  | 40 => 0x3EF9EC12#32
  | 41 => 0x4009C448#32
  | 42 => 0x400900F6#32
  | 43 => 0x3FEBCDEF#32
  | 44 => 0xBF69FF3E#32
  | 45 => 0xBF150DA3#32
  | 46 => 0x3E86B7B0#32
  | 47 => 0x3FCFDE53#32
  | 48 => 0x3FA0E5B3#32
  | 49 => 0xBECC5041#32
  | 50 => 0xBEE6DB34#32
  | 51 => 0xBE4BA482#32
  | 52 => 0x3E33C47E#32
  | 53 => 0x3E997588#32
  | 54 => 0x4085B902#32
  | 55 => 0xBF22AFE6#32
  | 56 => 0xBEEE5322#32
  | 57 => 0xBF0DF765#32
  | 58 => 0xBFA3C493#32
  | 59 => 0x3F23C3B3#32
  | 60 => 0x409E0F1C#32
  | 61 => 0x3FEA2531#32
  | 62 => 0x3F5E72A0#32
  | 63 => 0x3EAD40CC#32
  | 64 => 0xBF56A122#32
  | 65 => 0x3FC2406D#32
  | 66 => 0x3E995A1D#32
  | 67 => 0x3FBCBECB#32
  | 68 => 0xBE207EFB#32
  | 69 => 0xBFE3C73F#32
  | 70 => 0xBF34222E#32
  | 71 => 0x4037DCC2#32
  | 72 => 0xBF45829A#32
  | 73 => 0xBF0A3F1B#32
  | 74 => 0x3FE38D52#32
  | 75 => 0x3EB16AF8#32
  | 76 => 0xBF04DE40#32
  | 77 => 0x3F222BF3#32
  | 78 => 0x3F23A2AD#32
  | 79 => 0x401D632D#32
  | 80 => 0x400F2D0E#32
  | 81 => 0xBF52B654#32
  | 82 => 0x40524B1F#32
  | 83 => 0xBCB6AB7A#32
  | 84 => 0xBF0604B3#32
  | 85 => 0x3EAD4DEF#32
  | 86 => 0x3F23E5AC#32
  | 87 => 0x3EC03558#32
  | 88 => 0x401741B4#32
  | 89 => 0xBF4E272E#32
  | 90 => 0x3F66A6B8#32
  | 91 => 0x408BE9E3#32
  | 92 => 0x3E9188C9#32
  | 93 => 0x3F08FA3E#32
  | 94 => 0xBE9FE30E#32
  | 95 => 0x3C52FFD4#32
  | 96 => 0xBF50BC9E#32
  | 97 => 0x408CF03D#32
  | 98 => 0x408358E9#32
  | 99 => 0x3DDD1FB0#32
  | 100 => 0x3E8D4D3B#32
  | 101 => 0xBF77C7D9#32
  | 102 => 0x3F9A375F#32
  | 103 => 0x3EA22859#32
  | 104 => 0xBF140CE7#32
  | 105 => 0x3D9F51EC#32
  | 106 => 0xBEEF1C86#32
  | 107 => 0x4012B7D6#32
  | 108 => 0x3FBED768#32
  | 109 => 0x3E899ADB#32
  | 110 => 0x3E481D18#32
  | 111 => 0xBD9C78CE#32
  | 112 => 0xBE7C0F19#32
  | 113 => 0x3FB476E6#32
  | 114 => 0xBEDA7565#32
  | 115 => 0x3F971CF0#32
  | 116 => 0x3F69FB4A#32
  | 117 => 0x3F1267B2#32
  | 118 => 0x3FFE769A#32
  | 119 => 0x3F48C31D#32
  | 120 => 0x3F13EA09#32
  | 121 => 0xBF819409#32
  | 122 => 0x3FB020FC#32
  | 123 => 0xBF3BBD2E#32
  | 124 => 0x3F9F1F24#32
  | 125 => 0xBEC47E39#32
  | 126 => 0xBEFE59C7#32
  | 127 => 0xBE3C1BCC#32
  | _ => 0#32

noncomputable abbrev lit0t0_571 (i : Nat) : BitVec 32 := match i % 128 with
  | 0 => 0x40139C3A#32
  | 1 => 0xBD9C57EB#32
  | 2 => 0x3FB94171#32
  | 3 => 0x3FA84337#32
  | 4 => 0xBF8298E3#32
  | 5 => 0x3F78895E#32
  | 6 => 0x3F2A3216#32
  | 7 => 0x3FD24052#32
  | 8 => 0xBE4D0FEE#32
  | 9 => 0xBE3D9971#32
  | 10 => 0xBD3D18AF#32
  | 11 => 0x40474B4C#32
  | 12 => 0x40248E1D#32
  | 13 => 0x3FF1A612#32
  | 14 => 0xBDACFB79#32
  | 15 => 0xBDA9DF2E#32
  | 16 => 0x3E35A7D4#32
  | 17 => 0x3E62EDDC#32
  | 18 => 0xBF4A28F2#32
  | 19 => 0x3FE939F7#32
  | 20 => 0xBE49310E#32
  | 21 => 0xBEE1C9DA#32
  | 22 => 0xBE709803#32
  | 23 => 0xBEFDA792#32
  | 24 => 0xBF52CAA4#32
  | 25 => 0x3EF665C8#32
  | 26 => 0x401E0BE4#32
  | 27 => 0x3F63AB9C#32
  | 28 => 0x3FB2518E#32
  | 29 => 0xBE6D65A5#32
  | 30 => 0x3F9C0C2B#32
  | 31 => 0xBF4EA7AA#32
  | 32 => 0x3FA8D60B#32
  | 33 => 0x3F919092#32
  | 34 => 0xBE572898#32
  | 35 => 0x4036886C#32
  | 36 => 0x3F003D4A#32
  | 37 => 0x3F6B0C88#32
  | 38 => 0x3EB4B69A#32
  | 39 => 0xBF3428CC#32
  | 40 => 0x406CA3E4#32
  | 41 => 0xBF27A552#32
  | 42 => 0x3F87CE36#32
  | 43 => 0xBF0A52C9#32
  | 44 => 0x3E7D8A1F#32
  | 45 => 0x3EDA6FDE#32
  | 46 => 0x3E0F1381#32
  | 47 => 0x3F7E4004#32
  | 48 => 0x3EC1BA01#32
  | 49 => 0x3FF55C01#32
  | 50 => 0xBF21B884#32
  | 51 => 0xBD24F55E#32
  | 52 => 0x3F955099#32
  | 53 => 0xBE896D77#32
  | 54 => 0xBF0CA87F#32
  | 55 => 0x3F4412AE#32
  | 56 => 0xBECBCC42#32
  | 57 => 0x3F9F1E34#32
  | 58 => 0xBFA9C0AC#32
  | 59 => 0xBF15008A#32
  | 60 => 0x3F5C44EC#32
  | 61 => 0x3F3498CC#32
  | 62 => 0xBF7DC13A#32
  | 63 => 0xBF11CA1F#32
  | 64 => 0x3E81FD29#32
  | 65 => 0x3EDECDD5#32
  | 66 => 0x3F0A79D8#32
  | 67 => 0xBF98DD62#32
  | 68 => 0x3F03E44F#32
  | 69 => 0xBEBD6D6C#32
  | 70 => 0xBF4967D9#32
  | 71 => 0xBEB758D9#32
  | 72 => 0xBF195680#32
  | 73 => 0x3E1E7146#32
  | 74 => 0x3FCA0866#32
  | 75 => 0x3DCE5207#32
  | 76 => 0x3F10435C#32
  | 77 => 0x400F2D38#32
  | 78 => 0x3EEBA1E6#32
  | 79 => 0xBDC85092#32
  | 80 => 0xBC9F3CF9#32
  | 81 => 0x3F307824#32
  | 82 => 0x3FE1F58F#32
  | 83 => 0x3E827985#32
  | 84 => 0x3DE25815#32
  | 85 => 0xBF51124B#32
  | 86 => 0xBD5F36ED#32
  | 87 => 0x3F5C0E51#32
  | 88 => 0x3FA41B9F#32
  | 89 => 0x3F27AA83#32
  | 90 => 0x3FAD905C#32
  | 91 => 0x3F737664#32
  | 92 => 0x3E831A72#32
  | 93 => 0x3E59C58D#32
  | 94 => 0xBDB3D8F0#32
  | 95 => 0x3F87ED61#32
  | 96 => 0x3E89C10F#32
  | 97 => 0x4078030E#32
  | 98 => 0x3FA088B1#32
  | 99 => 0x3FB14353#32
  | 100 => 0xBF4D0639#32
  | 101 => 0x400C5A4E#32
  | 102 => 0x3D3D213F#32
  | 103 => 0x3DC864CD#32
  | 104 => 0x3F9C8EE2#32
  | 105 => 0x3E5A6613#32
  | 106 => 0xBF5A8BC5#32
  | 107 => 0x3F2F9625#32
  | 108 => 0x3FC8FA3B#32
  | 109 => 0xBEA3DC14#32
  | 110 => 0x3EAD322A#32
  | 111 => 0x3FD97B33#32
  | 112 => 0x3F07D661#32
  | 113 => 0x3FD5105C#32
  | 114 => 0x3EF18462#32
  | 115 => 0x3E1E02B6#32
  | 116 => 0x4032048B#32
  | 117 => 0xBF630BE6#32
  | 118 => 0xBF952076#32
  | 119 => 0x3F77CEA4#32
  | 120 => 0xBF2F6E9C#32
  | 121 => 0x4012DDED#32
  | 122 => 0x3FA01D6D#32
  | 123 => 0xBEA6B78A#32
  | 124 => 0x3F38A455#32
  | 125 => 0x40226017#32
  | 126 => 0xBF08F81A#32
  | 127 => 0xBE92984E#32
  | _ => 0#32

noncomputable abbrev lit0t0_572 (i : Nat) : BitVec 32 := match i % 128 with
  | 0 => 0x400B87F4#32
  | 1 => 0xBEE7D06C#32
  | 2 => 0x3F6CE650#32
  | 3 => 0x3FEE2410#32
  | 4 => 0xBF485E74#32
  | 5 => 0x3F170C54#32
  | 6 => 0x40149861#32
  | 7 => 0xBE6AD0B9#32
  | 8 => 0xBF1D22F0#32
  | 9 => 0x4001692E#32
  | 10 => 0xBE92412C#32
  | 11 => 0x3F04B5DC#32
  | 12 => 0x3E722CA2#32
  | 13 => 0x3FB8335E#32
  | 14 => 0x40BF311E#32
  | 15 => 0x3FAE10C4#32
  | 16 => 0xBE81AD92#32
  | 17 => 0xBE429A17#32
  | 18 => 0xBF861F08#32
  | 19 => 0x4031EF16#32
  | 20 => 0x3B36CB33#32
  | 21 => 0x3E93AF1D#32
  | 22 => 0xBF7403A2#32
  | 23 => 0x3F72025A#32
  | 24 => 0xBF66B102#32
  | 25 => 0xBFCC3A5B#32
  | 26 => 0x3F867C7C#32
  | 27 => 0x3E85DA0F#32
  | 28 => 0x4088A5A7#32
  | 29 => 0xBE22A21F#32
  | 30 => 0xBF814C72#32
  | 31 => 0x4007A964#32
  | 32 => 0x402E2B40#32
  | 33 => 0xBF9751E6#32
  | 34 => 0xBF9A3617#32
  | 35 => 0x3F99D06E#32
  | 36 => 0xBF872C40#32
  | 37 => 0x3E3080FF#32
  | 38 => 0x3E62F5AE#32
  | 39 => 0xBE111E97#32
  | 40 => 0x3FADCAC1#32
  | 41 => 0x3EED1F02#32
  | 42 => 0x3FB9D8BE#32
  | 43 => 0xBF21FADC#32
  | 44 => 0x3DB77827#32
  | 45 => 0xBF89F169#32
  | 46 => 0x3DEA004D#32
  | 47 => 0x3F6C5582#32
  | 48 => 0x4009A21E#32
  | 49 => 0x3F54341F#32
  | 50 => 0x3F6F6167#32
  | 51 => 0x3F87BD29#32
  | 52 => 0x3FE08C80#32
  | 53 => 0xBD0065A5#32
  | 54 => 0x40324180#32
  | 55 => 0xBF67472A#32
  | 56 => 0xBF0D3E4B#32
  | 57 => 0xBEFF1BE2#32
  | 58 => 0x3EF7487F#32
  | 59 => 0x3D4F12F0#32
  | 60 => 0xBF159BEB#32
  | 61 => 0x3EDEF626#32
  | 62 => 0x3FC54D55#32
  | 63 => 0x40510E42#32
  | 64 => 0x4036D5E1#32
  | 65 => 0x3F025D00#32
  | 66 => 0x3E01FE78#32
  | 67 => 0xBEDB2140#32
  | 68 => 0x3FAA386B#32
  | 69 => 0xBE6B55AA#32
  | 70 => 0x3F2E1786#32
  | 71 => 0x3FB282D9#32
  | 72 => 0x3FE25363#32
  | 73 => 0x3EB8B572#32
  | 74 => 0xBF92AF8E#32
  | 75 => 0x3F2DA2AF#32
  | 76 => 0xBF055668#32
  | 77 => 0x3EC529B6#32
  | 78 => 0xBEB08DB8#32
  | 79 => 0x3E889B8A#32
  | 80 => 0x3E036660#32
  | 81 => 0x3FCDC032#32
  | 82 => 0xBF853D98#32
  | 83 => 0xBD874634#32
  | 84 => 0xBF149543#32
  | 85 => 0x3E425D4C#32
  | 86 => 0x4051D180#32
  | 87 => 0x3FF5CD20#32
  | 88 => 0xBDEE6110#32
  | 89 => 0xBF14163C#32
  | 90 => 0x403FE543#32
  | 91 => 0x3F1F4C96#32
  | 92 => 0x3D7EE0D1#32
  | 93 => 0xBFACE31B#32
  | 94 => 0x3F7BB5C1#32
  | 95 => 0xBF45E6E0#32
  | 96 => 0xBEC89F23#32
  | 97 => 0x3EBB4A95#32
  | 98 => 0xBE91BEAB#32
  | 99 => 0x3FCEE2F0#32
  | 100 => 0xBFBE6A60#32
  | 101 => 0x3F549B45#32
  | 102 => 0x3EB8FEDC#32
  | 103 => 0x3F2DFD9F#32
  | 104 => 0x3F9EF45F#32
  | 105 => 0xBF5630A7#32
  | 106 => 0x3F197BA0#32
  | 107 => 0xBD3ABAA3#32
  | 108 => 0xBFEA537A#32
  | 109 => 0x3FD75CB0#32
  | 110 => 0x3F6BF62C#32
  | 111 => 0x3F263058#32
  | 112 => 0x3F746728#32
  | 113 => 0x3F264A8A#32
  | 114 => 0x401A6F2A#32
  | 115 => 0xBF509A60#32
  | 116 => 0xBEED1D8E#32
  | 117 => 0x3EFE40A2#32
  | 118 => 0x4036978E#32
  | 119 => 0x3ED384BF#32
  | 120 => 0x3F0F4234#32
  | 121 => 0x3FDD3089#32
  | 122 => 0xBE8E7791#32
  | 123 => 0x40CC4EF3#32
  | 124 => 0x3F51020E#32
  | 125 => 0xBF506D9B#32
  | 126 => 0x4015EDE7#32
  | 127 => 0xBFB20BA6#32
  | _ => 0#32

noncomputable abbrev lit0t0_573 (i : Nat) : BitVec 32 := match i % 128 with
  | 0 => 0xBDC4F70A#32
  | 1 => 0x3F3D21C7#32
  | 2 => 0x409393CA#32
  | 3 => 0xBF0BE3B2#32
  | 4 => 0xBE7EA123#32
  | 5 => 0x3FB36A7B#32
  | 6 => 0x4012B2A9#32
  | 7 => 0x3E71A9A1#32
  | 8 => 0x3F5BF936#32
  | 9 => 0x40251F86#32
  | 10 => 0x40813696#32
  | 11 => 0xBFA4AF82#32
  | 12 => 0xBFC28D1B#32
  | 13 => 0x3EC7EE83#32
  | 14 => 0x3FEA8689#32
  | 15 => 0x3DF2693A#32
  | 16 => 0x3FB38227#32
  | 17 => 0x3E27A7FB#32
  | 18 => 0xBDD11505#32
  | 19 => 0xBDFB112A#32
  | 20 => 0x3FAB6C6C#32
  | 21 => 0xBF3B98CE#32
  | 22 => 0x403D932D#32
  | 23 => 0xBDA9B751#32
  | 24 => 0x3F3E93E4#32
  | 25 => 0xBF9DC399#32
  | 26 => 0xBF0B386F#32
  | 27 => 0xBF1E33C3#32
  | 28 => 0x3F027498#32
  | 29 => 0x3EA1A796#32
  | 30 => 0x404007EB#32
  | 31 => 0x3F9F2101#32
  | 32 => 0x3F9639B5#32
  | 33 => 0xBFC42AD0#32
  | 34 => 0xBF5E870D#32
  | 35 => 0x3C90DA6D#32
  | 36 => 0xBF47F096#32
  | 37 => 0x3F5BC704#32
  | 38 => 0xBF27FBDE#32
  | 39 => 0xBF2AF61E#32
  | 40 => 0x3F11CD9C#32
  | 41 => 0xBCBD7A30#32
  | 42 => 0x401F8362#32
  | 43 => 0xBBE41159#32
  | 44 => 0x3E349CC4#32
  | 45 => 0x3E327526#32
  | 46 => 0xBE39603F#32
  | 47 => 0x4052A79F#32
  | 48 => 0x3F723790#32
  | 49 => 0xBF307CC5#32
  | 50 => 0xBF1FD837#32
  | 51 => 0xBE529E7D#32
  | 52 => 0xBDECFD0F#32
  | 53 => 0x3F866924#32
  | 54 => 0xBE67DFFE#32
  | 55 => 0xBDADD593#32
  | 56 => 0x3EC5D236#32
  | 57 => 0xBEC26830#32
  | 58 => 0xBE007632#32
  | 59 => 0x3F1E1A4C#32
  | 60 => 0x3F41C8B9#32
  | 61 => 0x3F89A0EB#32
  | 62 => 0xBF6716AC#32
  | 63 => 0x3FF2B23C#32
  | 64 => 0x400E6738#32
  | 65 => 0x3F152175#32
  | 66 => 0x4041B076#32
  | 67 => 0xBE0E65E8#32
  | 68 => 0xBE0F4065#32
  | 69 => 0xBFF66869#32
  | 70 => 0x3EA11FA7#32
  | 71 => 0xBF3D6ED7#32
  | 72 => 0x3E5CFEB1#32
  | 73 => 0x3F77CDD4#32
  | 74 => 0xBD5ABD8B#32
  | 75 => 0x3F4E2341#32
  | 76 => 0x3FB0EE17#32
  | 77 => 0xBF5C1B52#32
  | 78 => 0x3FFAF858#32
  | 79 => 0x3F67AC69#32
  | 80 => 0x3FADDCDD#32
  | 81 => 0xBF1E906D#32
  | 82 => 0x3FF282DE#32
  | 83 => 0xBF19CB0B#32
  | 84 => 0x3FBB7593#32
  | 85 => 0x3F5B22E2#32
  | 86 => 0x4012F0E3#32
  | 87 => 0x3F4AB984#32
  | 88 => 0xBEB9EF4A#32
  | 89 => 0x3FC11C8E#32
  | 90 => 0xBF9438C9#32
  | 91 => 0xBE9E7AA1#32
  | 92 => 0x400052DC#32
  | 93 => 0xBF203334#32
  | 94 => 0x402A68BA#32
  | 95 => 0xBEDDBC51#32
  | 96 => 0x3F90F88D#32
  | 97 => 0xBEE9DE80#32
  | 98 => 0x3FBFE8E4#32
  | 99 => 0xBF041C6A#32
  | 100 => 0xBF3BEAA5#32
  | 101 => 0xBF1C10EA#32
  | 102 => 0xBE82282D#32
  | 103 => 0x3FA0A30D#32
  | 104 => 0x3EA6A4A8#32
  | 105 => 0x3FEDD39A#32
  | 106 => 0xBE895888#32
  | 107 => 0x3F7E7FF7#32
  | 108 => 0xBDA84528#32
  | 109 => 0x3DBDEB05#32
  | 110 => 0x3FAEB355#32
  | 111 => 0x3F126C40#32
  | 112 => 0xBFDEC211#32
  | 113 => 0x3F887C2A#32
  | 114 => 0xBF784289#32
  | 115 => 0xBE85E5FE#32
  | 116 => 0x3FE84A14#32
  | 117 => 0x3FBE1205#32
  | 118 => 0x3F63BFD2#32
  | 119 => 0x40242094#32
  | 120 => 0x3FACD04F#32
  | 121 => 0x3F80E69E#32
  | 122 => 0x4085DFAF#32
  | 123 => 0x3F647FB6#32
  | 124 => 0xBF085004#32
  | 125 => 0xBF44AC43#32
  | 126 => 0xBEB149C8#32
  | 127 => 0x3F30450F#32
  | _ => 0#32

noncomputable abbrev lit0t0_574 (i : Nat) : BitVec 32 := match i % 128 with
  | 0 => 0x3B9C3BB2#32
  | 1 => 0xBEC6BCFF#32
  | 2 => 0x3F10131D#32
  | 3 => 0xBF982372#32
  | 4 => 0xBF380E99#32
  | 5 => 0x3F103521#32
  | 6 => 0xBFBC6F18#32
  | 7 => 0x3E88FC70#32
  | 8 => 0x3DCE15CA#32
  | 9 => 0x3F334BBF#32
  | 10 => 0xBF3DE951#32
  | 11 => 0xBEC5B7A9#32
  | 12 => 0x400592FB#32
  | 13 => 0x3FB6483E#32
  | 14 => 0xBF69E96E#32
  | 15 => 0xBF44076B#32
  | 16 => 0x40197094#32
  | 17 => 0xBEBF1170#32
  | 18 => 0x3F718818#32
  | 19 => 0xBE4733E0#32
  | 20 => 0x3FCC4822#32
  | 21 => 0x3E5FCDAD#32
  | 22 => 0xBED086A3#32
  | 23 => 0x3EAC8BEE#32
  | 24 => 0x403BA5FB#32
  | 25 => 0x3F691A56#32
  | 26 => 0x3F875496#32
  | 27 => 0x3F0BF379#32
  | 28 => 0x3F7D9F1E#32
  | 29 => 0x3F93C141#32
  | 30 => 0xBF8187C2#32
  | 31 => 0x4095C12E#32
  | 32 => 0xBEB11172#32
  | 33 => 0xBFA2740D#32
  | 34 => 0x3FDD9278#32
  | 35 => 0x3EE42D8C#32
  | 36 => 0xBEA3BC06#32
  | 37 => 0xBF0BBDEC#32
  | 38 => 0x3F80AD48#32
  | 39 => 0x3FC1C520#32
  | 40 => 0x3D65F547#32
  | 41 => 0xBE82B2A8#32
  | 42 => 0xBF1A363C#32
  | 43 => 0xBD8D1B78#32
  | 44 => 0xBFA59D96#32
  | 45 => 0x4012DB03#32
  | 46 => 0x3DE65FE3#32
  | 47 => 0xBF5486D6#32
  | 48 => 0x3F546CC5#32
  | 49 => 0x3F42EE46#32
  | 50 => 0x3E9717DE#32
  | 51 => 0x3CDD305C#32
  | 52 => 0x3F5E0B7B#32
  | 53 => 0x3E8747EA#32
  | 54 => 0x3FA57069#32
  | 55 => 0x402B9519#32
  | 56 => 0x403033BC#32
  | 57 => 0xBDDE228A#32
  | 58 => 0x3F9F2AE3#32
  | 59 => 0x3F600904#32
  | 60 => 0xBDF62A42#32
  | 61 => 0xBF7545BB#32
  | 62 => 0x3F539898#32
  | 63 => 0x3FEA3B1C#32
  | 64 => 0x3FE9A362#32
  | 65 => 0x3F2F27F1#32
  | 66 => 0x40152929#32
  | 67 => 0x3E82DA7E#32
  | 68 => 0x3E833259#32
  | 69 => 0xBF521D8A#32
  | 70 => 0xBE93BB13#32
  | 71 => 0x3F70F5A0#32
  | 72 => 0xBEFC48DE#32
  | 73 => 0xBF2465C7#32
  | 74 => 0x402738E1#32
  | 75 => 0x3F073258#32
  | 76 => 0xBE5A82F1#32
  | 77 => 0xBE680F68#32
  | 78 => 0x3F80DDEE#32
  | 79 => 0x3DF5890D#32
  | 80 => 0x3FBFFA21#32
  | 81 => 0x3F537FCA#32
  | 82 => 0x3F90F866#32
  | 83 => 0x3FFEE497#32
  | 84 => 0x4027338C#32
  | 85 => 0x3E1AEA94#32
  | 86 => 0x401AFAE1#32
  | 87 => 0x3F4C56C1#32
  | 88 => 0xBE474578#32
  | 89 => 0x40021BE8#32
  | 90 => 0xBEA39686#32
  | 91 => 0x3EF51139#32
  | 92 => 0xBEF3914A#32
  | 93 => 0x3F5EE6CC#32
  | 94 => 0xBD3EA8B4#32
  | 95 => 0x406E4C0B#32
  | 96 => 0x3FE6F61E#32
  | 97 => 0xBF916D12#32
  | 98 => 0xBF81CB2E#32
  | 99 => 0x3F12A4EC#32
  | 100 => 0x3E95A2C0#32
  | 101 => 0xBE7B7334#32
  | 102 => 0x3F497AB0#32
  | 103 => 0xBF5D32A9#32
  | 104 => 0x3FB04664#32
  | 105 => 0x3F97D7A9#32
  | 106 => 0x3E3A6EF2#32
  | 107 => 0x401CD075#32
  | 108 => 0xBE9F1B0A#32
  | 109 => 0xBF16CB31#32
  | 110 => 0xBF37D81E#32
  | 111 => 0x3FCF69A7#32
  | 112 => 0xBF092A67#32
  | 113 => 0x3FA3BD71#32
  | 114 => 0x3EA9A63F#32
  | 115 => 0xBD94F6BD#32
  | 116 => 0x3E91E8A4#32
  | 117 => 0x3EABF538#32
  | 118 => 0x3FDC602A#32
  | 119 => 0x3E66BA1B#32
  | 120 => 0x3EC25B2B#32
  | 121 => 0xBBED713D#32
  | 122 => 0xBF2CE246#32
  | 123 => 0x3F070866#32
  | 124 => 0xBF4733C8#32
  | 125 => 0x400A9B99#32
  | 126 => 0x3F919E5A#32
  | 127 => 0x3FF24E6E#32
  | _ => 0#32

noncomputable abbrev lit0t0_575 (i : Nat) : BitVec 32 := match i % 128 with
  | 0 => 0x3EB65B61#32
  | 1 => 0x3E45214C#32
  | 2 => 0x3FA45353#32
  | 3 => 0x3E983B3A#32
  | 4 => 0x3F85A93C#32
  | 5 => 0x3F72EE55#32
  | 6 => 0xBF14175B#32
  | 7 => 0xBE228D62#32
  | 8 => 0xBF1C5425#32
  | 9 => 0xBE7B5B65#32
  | 10 => 0x3F7E8AF8#32
  | 11 => 0xBDD3B427#32
  | 12 => 0x3F803DEC#32
  | 13 => 0x3E3B5841#32
  | 14 => 0x4013E17A#32
  | 15 => 0xBF734990#32
  | 16 => 0x3F950C3B#32
  | 17 => 0xBF9D1F58#32
  | 18 => 0xBF884310#32
  | 19 => 0xBF460148#32
  | 20 => 0x3ED82A06#32
  | 21 => 0x3F857A9B#32
  | 22 => 0x3EE2D243#32
  | 23 => 0xBF15510F#32
  | 24 => 0xBFA14585#32
  | 25 => 0x40107935#32
  | 26 => 0x3F94FE25#32
  | 27 => 0x40919F27#32
  | 28 => 0x3E72B380#32
  | 29 => 0xBF8EB5BA#32
  | 30 => 0x3E8DDB13#32
  | 31 => 0x3F73802E#32
  | 32 => 0x3E18712F#32
  | 33 => 0xBECE7758#32
  | 34 => 0xBFA01DD8#32
  | 35 => 0xBF0CF74A#32
  | 36 => 0x3F660118#32
  | 37 => 0x3FFDD19B#32
  | 38 => 0x3FBA211C#32
  | 39 => 0xBEBECCD0#32
  | 40 => 0x400F620E#32
  | 41 => 0x3FEBB9C0#32
  | 42 => 0xBF87BCF6#32
  | 43 => 0x3F9C296F#32
  | 44 => 0xBEA02701#32
  | 45 => 0x3F288C4C#32
  | 46 => 0xBF55AEBB#32
  | 47 => 0x400B6F4D#32
  | 48 => 0x3E64122C#32
  | 49 => 0x3F78342E#32
  | 50 => 0x3ECA7EFF#32
  | 51 => 0xBF5A691A#32
  | 52 => 0x3F97774D#32
  | 53 => 0x3E94AAB4#32
  | 54 => 0x3EE656D2#32
  | 55 => 0x403E7F89#32
  | 56 => 0xBF6290FE#32
  | 57 => 0x3ED136A8#32
  | 58 => 0x3FBE83F1#32
  | 59 => 0x3EBF3498#32
  | 60 => 0xBDD57731#32
  | 61 => 0x3E209B5D#32
  | 62 => 0x3EBE3849#32
  | 63 => 0xBEA0DEC0#32
  | 64 => 0xBC7C6BA7#32
  | 65 => 0x3FA2ACFB#32
  | 66 => 0xBF433812#32
  | 67 => 0x4045EBC6#32
  | 68 => 0x3EF18D4C#32
  | 69 => 0x3F9FA0DD#32
  | 70 => 0xBF4785C6#32
  | 71 => 0x3E7BDE74#32
  | 72 => 0xBE5CD57E#32
  | 73 => 0x3FECBA1C#32
  | 74 => 0x3EF6CF84#32
  | 75 => 0x3D40513F#32
  | 76 => 0x3B9D1D46#32
  | 77 => 0x408A8025#32
  | 78 => 0x3FA7DDC2#32
  | 79 => 0x404C575C#32
  | 80 => 0x3F23C332#32
  | 81 => 0x3F4BBD4A#32
  | 82 => 0xBEB3FD17#32
  | 83 => 0x3EBED58A#32
  | 84 => 0x4020751F#32
  | 85 => 0x402D12E1#32
  | 86 => 0x3F628F80#32
  | 87 => 0x3E391EA5#32
  | 88 => 0x3E8C8AD7#32
  | 89 => 0xBF78375C#32
  | 90 => 0x3FE78994#32
  | 91 => 0xBEDCF7F2#32
  | 92 => 0x3F18BF21#32
  | 93 => 0x3F9B339D#32
  | 94 => 0x4056E97E#32
  | 95 => 0x3FB23089#32
  | 96 => 0xBDE3D2FC#32
  | 97 => 0xBCCBEFBA#32
  | 98 => 0x3E8D5FCC#32
  | 99 => 0x3E878808#32
  | 100 => 0x3F2F6095#32
  | 101 => 0xBEE0F13D#32
  | 102 => 0x3CF5F285#32
  | 103 => 0x3DB30D9C#32
  | 104 => 0x3ED248DA#32
  | 105 => 0x40091A68#32
  | 106 => 0x3F45F62F#32
  | 107 => 0x400F69AC#32
  | 108 => 0xBF0198CC#32
  | 109 => 0x3F87C5A5#32
  | 110 => 0x3EAA7A83#32
  | 111 => 0x3F8FDC5E#32
  | 112 => 0x3EF40D2A#32
  | 113 => 0x3F625823#32
  | 114 => 0x3FB60F24#32
  | 115 => 0x401E5D7B#32
  | 116 => 0x3EDE6EB4#32
  | 117 => 0xBEAAE986#32
  | 118 => 0xBE49499A#32
  | 119 => 0x400F8D2D#32
  | 120 => 0x3FC16D7D#32
  | 121 => 0x3F5F0570#32
  | 122 => 0x3F9F5487#32
  | 123 => 0x3F81EDFC#32
  | 124 => 0xBF5883DC#32
  | 125 => 0x400B6D2C#32
  | 126 => 0xBF17032B#32
  | 127 => 0x40294D26#32
  | _ => 0#32

noncomputable abbrev lit0t0_576 (i : Nat) : BitVec 32 := match i % 128 with
  | 0 => 0x3D292D36#32
  | 1 => 0xBE6998B0#32
  | 2 => 0x3FF466D1#32
  | 3 => 0x3FAD6AC2#32
  | 4 => 0xBDDCBDAA#32
  | 5 => 0x3E8821DF#32
  | 6 => 0x401066C4#32
  | 7 => 0xBCC94BE7#32
  | 8 => 0x3FC8CB47#32
  | 9 => 0x3F8EF162#32
  | 10 => 0xBF7F04DA#32
  | 11 => 0x3C220261#32
  | 12 => 0x400B6B02#32
  | 13 => 0x3EF47FF4#32
  | 14 => 0x3F915DEC#32
  | 15 => 0x3FF47DF9#32
  | 16 => 0x3FA2E1E0#32
  | 17 => 0x3D925161#32
  | 18 => 0xBE649F4A#32
  | 19 => 0xBECED7F1#32
  | 20 => 0x3AA7073C#32
  | 21 => 0x3FC3041B#32
  | 22 => 0x3F577820#32
  | 23 => 0xBF055FE1#32
  | 24 => 0xBE9BBB26#32
  | 25 => 0xBE1371C2#32
  | 26 => 0xBEAC5892#32
  | 27 => 0xBE95755A#32
  | 28 => 0xBF45867F#32
  | 29 => 0x4099A346#32
  | 30 => 0xBF20FDF0#32
  | 31 => 0x3FC1B34D#32
  | 32 => 0xBEFDCC92#32
  | 33 => 0x3F5F281C#32
  | 34 => 0xBF9B0112#32
  | 35 => 0xBD4F9A99#32
  | 36 => 0x3F95AA48#32
  | 37 => 0x3FD475F0#32
  | 38 => 0x405285FA#32
  | 39 => 0x3F98D9CF#32
  | 40 => 0xBFBA70DC#32
  | 41 => 0x4043CC37#32
  | 42 => 0x4055ABDD#32
  | 43 => 0x3FE08E09#32
  | 44 => 0xBE6B2B71#32
  | 45 => 0x3FB83ED5#32
  | 46 => 0xBF95BBBA#32
  | 47 => 0x3FB43BDB#32
  | 48 => 0x3F4B87A2#32
  | 49 => 0x3F714D7D#32
  | 50 => 0xBEB7C69C#32
  | 51 => 0x3F3903F4#32
  | 52 => 0x3FFEE06C#32
  | 53 => 0xBECA5EA2#32
  | 54 => 0xBE8B3384#32
  | 55 => 0x3F549C28#32
  | 56 => 0xBF6589A9#32
  | 57 => 0x3F3043B3#32
  | 58 => 0xBF78389A#32
  | 59 => 0x4070B964#32
  | 60 => 0x3FE11F22#32
  | 61 => 0xBF8D535E#32
  | 62 => 0xBF692C9A#32
  | 63 => 0xBE90DA95#32
  | 64 => 0xBEDA1AB4#32
  | 65 => 0x3F8AB1ED#32
  | 66 => 0x3F40E094#32
  | 67 => 0xBFAAE3A4#32
  | 68 => 0x3F1B7F26#32
  | 69 => 0x3F6CB476#32
  | 70 => 0x3E620017#32
  | 71 => 0x3D986F69#32
  | 72 => 0x4042875B#32
  | 73 => 0x3F3B52F2#32
  | 74 => 0x4019A045#32
  | 75 => 0x3E0ECE3A#32
  | 76 => 0x40375A4F#32
  | 77 => 0xBF89DE66#32
  | 78 => 0x405C12AD#32
  | 79 => 0x3F6732AA#32
  | 80 => 0x3ECFBD3D#32
  | 81 => 0xBF5A1C40#32
  | 82 => 0x3E63FFD2#32
  | 83 => 0x3FCA634F#32
  | 84 => 0x407E3A81#32
  | 85 => 0x3E52931C#32
  | 86 => 0xBEFC2F9E#32
  | 87 => 0x3EDFA740#32
  | 88 => 0xBF0EFB87#32
  | 89 => 0x3ED9D2ED#32
  | 90 => 0x3FF19253#32
  | 91 => 0x3F10275A#32
  | 92 => 0x3E147E82#32
  | 93 => 0x3F0335F4#32
  | 94 => 0x3F948EC2#32
  | 95 => 0x3EF05032#32
  | 96 => 0x3D1E50E1#32
  | 97 => 0xBF0BE9DB#32
  | 98 => 0xBF253223#32
  | 99 => 0x3ED54A7C#32
  | 100 => 0x401C35EC#32
  | 101 => 0x3F4F02ED#32
  | 102 => 0xBF925AE2#32
  | 103 => 0x3F2E1ED1#32
  | 104 => 0xBEF67085#32
  | 105 => 0xBF7131E4#32
  | 106 => 0x3F15260D#32
  | 107 => 0x3F469267#32
  | 108 => 0x3FB59298#32
  | 109 => 0xBD817D83#32
  | 110 => 0xBDE090F2#32
  | 111 => 0x400FA825#32
  | 112 => 0x40511E70#32
  | 113 => 0x3F967EDF#32
  | 114 => 0xBEE508E2#32
  | 115 => 0x3EF85DA2#32
  | 116 => 0x3F5588C5#32
  | 117 => 0xBEFF023E#32
  | 118 => 0xBE3969EC#32
  | 119 => 0x3EC851D2#32
  | 120 => 0x3F12C6FD#32
  | 121 => 0x3FCC2FAB#32
  | 122 => 0x40B9B408#32
  | 123 => 0xBDB7FD15#32
  | 124 => 0xBF5355FC#32
  | 125 => 0x40141E64#32
  | 126 => 0xBF69E591#32
  | 127 => 0xBF1396EE#32
  | _ => 0#32

noncomputable abbrev lit0t0_577 (i : Nat) : BitVec 32 := match i % 128 with
  | 0 => 0xBE3A0714#32
  | 1 => 0xBDF31F02#32
  | 2 => 0x3F19526E#32
  | 3 => 0x3F271C7E#32
  | 4 => 0xBDF5B7BE#32
  | 5 => 0xBEA616DE#32
  | 6 => 0x3F9921BF#32
  | 7 => 0x406B0F55#32
  | 8 => 0x3EAD1A29#32
  | 9 => 0x3FF6CC61#32
  | 10 => 0xBEFB191A#32
  | 11 => 0x3FD332AD#32
  | 12 => 0x3F1D2E83#32
  | 13 => 0x3DAEAE40#32
  | 14 => 0x3FEA5E51#32
  | 15 => 0x3E520240#32
  | 16 => 0x408FF725#32
  | 17 => 0xBF78AE52#32
  | 18 => 0xBF5EED26#32
  | 19 => 0x3F212B0F#32
  | 20 => 0x3F2E7768#32
  | 21 => 0x4109E287#32
  | 22 => 0xBE434418#32
  | 23 => 0x3F865800#32
  | 24 => 0xBECEE8FA#32
  | 25 => 0xBE47D3CA#32
  | 26 => 0xBEBB83F7#32
  | 27 => 0x3FBFCD7F#32
  | 28 => 0xBED78D05#32
  | 29 => 0xBD9608AE#32
  | 30 => 0x3FBD2857#32
  | 31 => 0x3BFDE1A2#32
  | 32 => 0x3F8296FF#32
  | 33 => 0xBFC88CE6#32
  | 34 => 0x40AE1625#32
  | 35 => 0x3EF56242#32
  | 36 => 0x3E050ED8#32
  | 37 => 0xBF014D3C#32
  | 38 => 0xBF75EEEA#32
  | 39 => 0xBEB4CAF3#32
  | 40 => 0x3F61E4C4#32
  | 41 => 0xBF4DB53B#32
  | 42 => 0xBD5DA8C6#32
  | 43 => 0xBF60692E#32
  | 44 => 0xBC3B1F67#32
  | 45 => 0x3F6618F6#32
  | 46 => 0x403E339D#32
  | 47 => 0xBDED3D85#32
  | 48 => 0x3F58709E#32
  | 49 => 0xBD9D4859#32
  | 50 => 0x3F2A1451#32
  | 51 => 0x3FFAC5CE#32
  | 52 => 0xBF8DCCCC#32
  | 53 => 0x3F032A7B#32
  | 54 => 0x3FB69E54#32
  | 55 => 0x408AD8D4#32
  | 56 => 0x4070A2E2#32
  | 57 => 0x3C3C5EA7#32
  | 58 => 0x3E226F0B#32
  | 59 => 0x3F5A29A6#32
  | 60 => 0x40C3EAFA#32
  | 61 => 0xBDB163E3#32
  | 62 => 0xBEF63C08#32
  | 63 => 0x3F1E8502#32
  | 64 => 0xBF3B6FD3#32
  | 65 => 0x4067F701#32
  | 66 => 0xBD62F1DD#32
  | 67 => 0x3F04C422#32
  | 68 => 0xBD95A78E#32
  | 69 => 0x3F277BB8#32
  | 70 => 0x3FE8A269#32
  | 71 => 0x3F977F80#32
  | 72 => 0xBEF37864#32
  | 73 => 0x4019D56E#32
  | 74 => 0xBE9D64FF#32
  | 75 => 0x3F76B082#32
  | 76 => 0xBF4F5A8F#32
  | 77 => 0xBF4D3C01#32
  | 78 => 0xBF510A55#32
  | 79 => 0x3DF39FA5#32
  | 80 => 0xBD421510#32
  | 81 => 0xBEED0F56#32
  | 82 => 0x3F8E4F1F#32
  | 83 => 0x3F2A6083#32
  | 84 => 0xBF32E57C#32
  | 85 => 0x3EF0DB60#32
  | 86 => 0xBE6697F2#32
  | 87 => 0x403ACF30#32
  | 88 => 0xBEDCC61E#32
  | 89 => 0xBFA2232C#32
  | 90 => 0x3FF52ADD#32
  | 91 => 0xBF941719#32
  | 92 => 0x3FB61B24#32
  | 93 => 0xBF46D698#32
  | 94 => 0x3EA97F14#32
  | 95 => 0xBF170C96#32
  | 96 => 0x3ECDBB0C#32
  | 97 => 0xBF2AE1E7#32
  | 98 => 0x3F43B0A7#32
  | 99 => 0xBF5E4ADC#32
  | 100 => 0xBED9ECCB#32
  | 101 => 0x3CC1F305#32
  | 102 => 0x3F3C4284#32
  | 103 => 0x3DC3A710#32
  | 104 => 0xBF93A98A#32
  | 105 => 0xBD1FF80C#32
  | 106 => 0xBF433D62#32
  | 107 => 0x3F29D3B2#32
  | 108 => 0x3FA911BA#32
  | 109 => 0x3F80D6E6#32
  | 110 => 0x400A9B0B#32
  | 111 => 0xBEEFE6EC#32
  | 112 => 0x40056610#32
  | 113 => 0x3FB5CFFF#32
  | 114 => 0x3DC4C9D9#32
  | 115 => 0xBF427C16#32
  | 116 => 0xBEDF9EEF#32
  | 117 => 0xBE4CC8F1#32
  | 118 => 0x40103D22#32
  | 119 => 0x401763F6#32
  | 120 => 0x3FD16F31#32
  | 121 => 0x3E509F5C#32
  | 122 => 0xBD3F9AE3#32
  | 123 => 0x3F574380#32
  | 124 => 0x3FA13298#32
  | 125 => 0x3EDFAEEA#32
  | 126 => 0xBF5A8620#32
  | 127 => 0xBF017C0D#32
  | _ => 0#32

noncomputable abbrev lit0t0_578 (i : Nat) : BitVec 32 := match i % 128 with
  | 0 => 0x3F1A6C2D#32
  | 1 => 0xBF93B35E#32
  | 2 => 0x3FCA4F94#32
  | 3 => 0x3C0A7A65#32
  | 4 => 0x3FB9AE61#32
  | 5 => 0xBE02CCC9#32
  | 6 => 0x3E27B5AD#32
  | 7 => 0x3FAE8A34#32
  | 8 => 0x3D4947B0#32
  | 9 => 0x3D9071EE#32
  | 10 => 0x400DF9F0#32
  | 11 => 0xBEE18D20#32
  | 12 => 0x3E31AC09#32
  | 13 => 0xBFA11B2D#32
  | 14 => 0x3ECE5F00#32
  | 15 => 0x3EDC84BE#32
  | 16 => 0x3EACCA52#32
  | 17 => 0x3F947ACB#32
  | 18 => 0x3F20E64C#32
  | 19 => 0x3FC54E99#32
  | 20 => 0x3EF54EC1#32
  | 21 => 0x3FBB70B9#32
  | 22 => 0x3FB222D0#32
  | 23 => 0x3E00B4FF#32
  | 24 => 0xBFB408A6#32
  | 25 => 0xBF360F5A#32
  | 26 => 0xBE6373C1#32
  | 27 => 0x3FCCAEE0#32
  | 28 => 0xBF14D23C#32
  | 29 => 0xBFA86DE6#32
  | 30 => 0xBF4AA724#32
  | 31 => 0x3FEEC283#32
  | 32 => 0x400B482C#32
  | 33 => 0x3CA1B732#32
  | 34 => 0x3FD79030#32
  | 35 => 0x3F3F56DB#32
  | 36 => 0x3D857760#32
  | 37 => 0xBE93C2AD#32
  | 38 => 0xBF29D9A5#32
  | 39 => 0x3FE2EBAC#32
  | 40 => 0x404F514C#32
  | 41 => 0xBF11740E#32
  | 42 => 0x3F245B50#32
  | 43 => 0x3F7E3A9A#32
  | 44 => 0xBF13FD81#32
  | 45 => 0xBF32DBCA#32
  | 46 => 0x3F3F420A#32
  | 47 => 0x3FB6BF8A#32
  | 48 => 0xBE8DCD1C#32
  | 49 => 0xBF7C129A#32
  | 50 => 0x3DD3C071#32
  | 51 => 0xBF2D859D#32
  | 52 => 0x3EC50E8C#32
  | 53 => 0x3F9BC0FB#32
  | 54 => 0x3FA1579B#32
  | 55 => 0x3FAB7EA7#32
  | 56 => 0x3DE0B7F9#32
  | 57 => 0xBDBF0B8E#32
  | 58 => 0x3DECEA42#32
  | 59 => 0x3F818F52#32
  | 60 => 0x400E4065#32
  | 61 => 0x401B3766#32
  | 62 => 0x3FA83148#32
  | 63 => 0x3F52BE35#32
  | 64 => 0x3FA0F140#32
  | 65 => 0x40066742#32
  | 66 => 0x3E9B3E8F#32
  | 67 => 0x3D681923#32
  | 68 => 0x40695A5A#32
  | 69 => 0x3E72202E#32
  | 70 => 0xBF2F8680#32
  | 71 => 0xBE20913A#32
  | 72 => 0xBF7C847E#32
  | 73 => 0x40242DBD#32
  | 74 => 0xBEE08A53#32
  | 75 => 0xBE227B25#32
  | 76 => 0xBF5723A8#32
  | 77 => 0x3FA7B3C6#32
  | 78 => 0x3FA7A078#32
  | 79 => 0x3FB5105C#32
  | 80 => 0xBE1245BE#32
  | 81 => 0xBF15896F#32
  | 82 => 0x3F819D44#32
  | 83 => 0x3E2C6F20#32
  | 84 => 0x3FC8257D#32
  | 85 => 0xBEEEC46D#32
  | 86 => 0x40060115#32
  | 87 => 0x3FBDF252#32
  | 88 => 0xBF14F884#32
  | 89 => 0x3EC4E6DE#32
  | 90 => 0xBF6DC904#32
  | 91 => 0x4021C829#32
  | 92 => 0xBEEBCA40#32
  | 93 => 0x3FCDA9D6#32
  | 94 => 0xBF85E48C#32
  | 95 => 0x3F2A7AD0#32
  | 96 => 0x3EC1F7EA#32
  | 97 => 0x4098C555#32
  | 98 => 0x3F61667F#32
  | 99 => 0xBEA1839B#32
  | 100 => 0x3EB43165#32
  | 101 => 0x3F0F9538#32
  | 102 => 0x3F113458#32
  | 103 => 0x4075DB9A#32
  | 104 => 0x3B9E63D7#32
  | 105 => 0x3FFFF31B#32
  | 106 => 0x4048C2C1#32
  | 107 => 0x3EE51876#32
  | 108 => 0xBE72FE16#32
  | 109 => 0x3FB5020E#32
  | 110 => 0x3DFBD1EB#32
  | 111 => 0x3F8245B8#32
  | 112 => 0x4046514C#32
  | 113 => 0x3F5BE5FF#32
  | 114 => 0x3FCEFCBB#32
  | 115 => 0xBDEC1540#32
  | 116 => 0xBF257FB3#32
  | 117 => 0xBDC9CDA3#32
  | 118 => 0x3F2EC158#32
  | 119 => 0xBF534F2D#32
  | 120 => 0x3F509526#32
  | 121 => 0xBF7BBDE9#32
  | 122 => 0x3EC0D2D5#32
  | 123 => 0x3D2B7CF0#32
  | 124 => 0x3F6647DA#32
  | 125 => 0x3F83D608#32
  | 126 => 0xBDD56438#32
  | 127 => 0xBF878C5D#32
  | _ => 0#32

noncomputable abbrev lit0t0_579 (i : Nat) : BitVec 32 := match i % 128 with
  | 0 => 0x3E3A8219#32
  | 1 => 0x3FF5CE3C#32
  | 2 => 0xBEFAAD61#32
  | 3 => 0x405F0804#32
  | 4 => 0x3FAA3E2B#32
  | 5 => 0x3FF4AE8D#32
  | 6 => 0x4087A1DC#32
  | 7 => 0xBF7BF123#32
  | 8 => 0x3FB9660A#32
  | 9 => 0x3EDC4739#32
  | 10 => 0x3FFE5E1D#32
  | 11 => 0x3F38B0E0#32
  | 12 => 0x40842807#32
  | 13 => 0x3F230A0F#32
  | 14 => 0x3F584788#32
  | 15 => 0xBE62E593#32
  | 16 => 0xBC5DE78E#32
  | 17 => 0x408622A0#32
  | 18 => 0x3EDCDAC3#32
  | 19 => 0xBDA4933B#32
  | 20 => 0xBEA88C3E#32
  | 21 => 0x4003122F#32
  | 22 => 0xBF704150#32
  | 23 => 0xBC8F08B7#32
  | 24 => 0xBE670864#32
  | 25 => 0x3F6DAEA8#32
  | 26 => 0xBEFC6F6E#32
  | 27 => 0x3F6FED54#32
  | 28 => 0x3FADA78D#32
  | 29 => 0x3F319E7E#32
  | 30 => 0xBF27ACD5#32
  | 31 => 0xBCB4FD22#32
  | 32 => 0x401D1E9C#32
  | 33 => 0x3BDB5F11#32
  | 34 => 0x3F7D4544#32
  | 35 => 0xBD973817#32
  | 36 => 0x3F5A9A18#32
  | 37 => 0x4022DA54#32
  | 38 => 0x406DAFDD#32
  | 39 => 0x3F8FD3FF#32
  | 40 => 0x3D9F478D#32
  | 41 => 0xBFBE30AF#32
  | 42 => 0xBEA30D75#32
  | 43 => 0xBF3563C1#32
  | 44 => 0x3F10ECC8#32
  | 45 => 0x3E81D207#32
  | 46 => 0x3E649679#32
  | 47 => 0xBF89801A#32
  | 48 => 0x3F283D69#32
  | 49 => 0x3FB7E7D3#32
  | 50 => 0x3EF9D76C#32
  | 51 => 0x3F4CF44A#32
  | 52 => 0x3FEE0DC0#32
  | 53 => 0x3E91D73B#32
  | 54 => 0x3F99625C#32
  | 55 => 0xBE8E03C6#32
  | 56 => 0x4061BF34#32
  | 57 => 0xBEF7EA38#32
  | 58 => 0xBF8B09EA#32
  | 59 => 0x3FAE0954#32
  | 60 => 0x3F59AA5A#32
  | 61 => 0x3E1F17E0#32
  | 62 => 0xBF2D0AD1#32
  | 63 => 0x3E465078#32
  | 64 => 0xBF04135A#32
  | 65 => 0x40054A2B#32
  | 66 => 0x3FC69535#32
  | 67 => 0x3F0AA438#32
  | 68 => 0x3C0F77D7#32
  | 69 => 0x3F3C5D2F#32
  | 70 => 0x4009834F#32
  | 71 => 0x4024EABE#32
  | 72 => 0x3E2063D7#32
  | 73 => 0x3E72BDB3#32
  | 74 => 0x3F58CDE8#32
  | 75 => 0x400C124A#32
  | 76 => 0xBBC673D9#32
  | 77 => 0x3F8E7040#32
  | 78 => 0xBE9D3AD5#32
  | 79 => 0x3BE75690#32
  | 80 => 0xBF9E692B#32
  | 81 => 0x401769C4#32
  | 82 => 0x4015517F#32
  | 83 => 0xBE99A619#32
  | 84 => 0xBE8F4E65#32
  | 85 => 0x3F21C178#32
  | 86 => 0xBF8972F2#32
  | 87 => 0x3F7B684E#32
  | 88 => 0xBF14B568#32
  | 89 => 0xBF18582C#32
  | 90 => 0x3F604F39#32
  | 91 => 0x4004972A#32
  | 92 => 0x3F3F5C20#32
  | 93 => 0x3FDBE626#32
  | 94 => 0x3E8E4ED4#32
  | 95 => 0x3F7CF814#32
  | 96 => 0xBDB5F232#32
  | 97 => 0x3F3B6D39#32
  | 98 => 0x40085081#32
  | 99 => 0x3DA28F4B#32
  | 100 => 0xBE83D3A1#32
  | 101 => 0x3F8B527C#32
  | 102 => 0x3FFDDD1A#32
  | 103 => 0x40059423#32
  | 104 => 0x3F737B72#32
  | 105 => 0xBDEB4D1A#32
  | 106 => 0x3FAA772A#32
  | 107 => 0xBF279C40#32
  | 108 => 0x3D248851#32
  | 109 => 0xBE00B526#32
  | 110 => 0xBF240784#32
  | 111 => 0x3CF10E17#32
  | 112 => 0x3F88209E#32
  | 113 => 0x400BB3A8#32
  | 114 => 0xBF6DA277#32
  | 115 => 0x3E9AD3C5#32
  | 116 => 0xBEAE6D3D#32
  | 117 => 0xBE8803CE#32
  | 118 => 0xBEBCE27F#32
  | 119 => 0xBEE72FB2#32
  | 120 => 0x3F435E0F#32
  | 121 => 0x4037F560#32
  | 122 => 0x40789658#32
  | 123 => 0x3F7A1E24#32
  | 124 => 0x40620F58#32
  | 125 => 0xBF1D025A#32
  | 126 => 0xBEAA0214#32
  | 127 => 0xBE2F20C4#32
  | _ => 0#32

noncomputable abbrev lit0t0_580 (i : Nat) : BitVec 32 := match i % 128 with
  | 0 => 0x4010DC32#32
  | 1 => 0xBE854F5B#32
  | 2 => 0x3E957D70#32
  | 3 => 0x3F0DEC67#32
  | 4 => 0x3F3408CF#32
  | 5 => 0x3FDCD594#32
  | 6 => 0xBE4AD621#32
  | 7 => 0x3F088B58#32
  | 8 => 0x3EE13C41#32
  | 9 => 0xBF338FB3#32
  | 10 => 0x405C9024#32
  | 11 => 0x3FCB86C3#32
  | 12 => 0xBF4F154F#32
  | 13 => 0x4021B6DD#32
  | 14 => 0xBF1C2EC0#32
  | 15 => 0x3F1525BD#32
  | 16 => 0xBF316022#32
  | 17 => 0x3F5E9718#32
  | 18 => 0x3FBD9BC4#32
  | 19 => 0x3F469942#32
  | 20 => 0xBEA50F52#32
  | 21 => 0xBF38483E#32
  | 22 => 0xBFC64889#32
  | 23 => 0xBE2CEC90#32
  | 24 => 0x3FD3677A#32
  | 25 => 0x3C958EE0#32
  | 26 => 0x3DDD1D1C#32
  | 27 => 0xBF95E4E6#32
  | 28 => 0xBF1D4066#32
  | 29 => 0xBF647490#32
  | 30 => 0xBF07816C#32
  | 31 => 0x3F4236CE#32
  | 32 => 0x3F008D7F#32
  | 33 => 0x3F1A0BB5#32
  | 34 => 0x40B689F0#32
  | 35 => 0xBF86D66A#32
  | 36 => 0x3FA71EE4#32
  | 37 => 0x3F10D5D7#32
  | 38 => 0x3FD31625#32
  | 39 => 0x3F4493D8#32
  | 40 => 0x406829C8#32
  | 41 => 0x4076BAC2#32
  | 42 => 0x3EE2B8C6#32
  | 43 => 0x3FC18F02#32
  | 44 => 0xBF6F01BD#32
  | 45 => 0xBE8595F9#32
  | 46 => 0xBFB35BE0#32
  | 47 => 0x3F912C37#32
  | 48 => 0x3E9B1404#32
  | 49 => 0x3E7D34E9#32
  | 50 => 0x3EA19ABE#32
  | 51 => 0xBEA2DE50#32
  | 52 => 0xBC033C17#32
  | 53 => 0x40351375#32
  | 54 => 0xBE99FC69#32
  | 55 => 0x40148E6F#32
  | 56 => 0x3F70B7F8#32
  | 57 => 0x4022718D#32
  | 58 => 0xBEECF0D0#32
  | 59 => 0xBF034C1C#32
  | 60 => 0xBF1B3AD1#32
  | 61 => 0xBF3BED1E#32
  | 62 => 0xBE819718#32
  | 63 => 0x3F615B10#32
  | 64 => 0x3E274550#32
  | 65 => 0x3FB4030E#32
  | 66 => 0x3D0E9214#32
  | 67 => 0x3EEF9F2D#32
  | 68 => 0x3F05FB92#32
  | 69 => 0x3F2A95B5#32
  | 70 => 0x3E5CCF77#32
  | 71 => 0xBF6079E4#32
  | 72 => 0x3FFE7251#32
  | 73 => 0x3EC64BF1#32
  | 74 => 0x3E298493#32
  | 75 => 0x3DD98AFD#32
  | 76 => 0x3D2710DB#32
  | 77 => 0x3EAB2758#32
  | 78 => 0x3FE814A1#32
  | 79 => 0x3F269734#32
  | 80 => 0xBED6F2AD#32
  | 81 => 0x3F48817A#32
  | 82 => 0x3F9A10FB#32
  | 83 => 0xBE4190B1#32
  | 84 => 0xBF5F29F0#32
  | 85 => 0xBE9D21E7#32
  | 86 => 0x3F7FC387#32
  | 87 => 0x4025BD71#32
  | 88 => 0xBF7AD008#32
  | 89 => 0x3E6B5446#32
  | 90 => 0xBF4B67D5#32
  | 91 => 0x403E7C31#32
  | 92 => 0x3F9A6B99#32
  | 93 => 0x3F43F4C1#32
  | 94 => 0x3F9619C3#32
  | 95 => 0xBFD83B7B#32
  | 96 => 0xBD9F2197#32
  | 97 => 0x3F9BE20D#32
  | 98 => 0x3FB7F4A6#32
  | 99 => 0x40491C89#32
  | 100 => 0xBF79F8F7#32
  | 101 => 0x3F83AA36#32
  | 102 => 0x3FF73299#32
  | 103 => 0x3EC3CA8F#32
  | 104 => 0xBEAD5A11#32
  | 105 => 0x400C70CE#32
  | 106 => 0x3F414F2B#32
  | 107 => 0x3F3E6A52#32
  | 108 => 0x3F325B56#32
  | 109 => 0x3F45E80F#32
  | 110 => 0x400FDC65#32
  | 111 => 0xBF5F8555#32
  | 112 => 0x3FCAE39A#32
  | 113 => 0xBED870EE#32
  | 114 => 0x3EED95A2#32
  | 115 => 0x3F9EAC95#32
  | 116 => 0x3EEA44AD#32
  | 117 => 0xBF04DB6E#32
  | 118 => 0x3F89741F#32
  | 119 => 0xBED25AFA#32
  | 120 => 0xBF72C8CE#32
  | 121 => 0x3EFA22D0#32
  | 122 => 0x3F2EA2DA#32
  | 123 => 0xBD7C61F3#32
  | 124 => 0x3F372039#32
  | 125 => 0x3DB3ED5B#32
  | 126 => 0xBE874E52#32
  | 127 => 0xBEDDC704#32
  | _ => 0#32

noncomputable abbrev lit0t0_581 (i : Nat) : BitVec 32 := match i % 128 with
  | 0 => 0x3F2DFA86#32
  | 1 => 0x3F275F64#32
  | 2 => 0x3FA12E3E#32
  | 3 => 0xBE0646E2#32
  | 4 => 0x3DF32FFA#32
  | 5 => 0xBFB7ECB0#32
  | 6 => 0x3F744948#32
  | 7 => 0x3F8D6327#32
  | 8 => 0x3E4D2B82#32
  | 9 => 0xBE32380A#32
  | 10 => 0x3FBCEFF5#32
  | 11 => 0x3FD108F3#32
  | 12 => 0xBEAC0C65#32
  | 13 => 0xBF0A81E3#32
  | 14 => 0xBF83BED2#32
  | 15 => 0xBF56AEF5#32
  | 16 => 0x3F2680F2#32
  | 17 => 0xBEE60BA8#32
  | 18 => 0xBDA6A351#32
  | 19 => 0x406D8882#32
  | 20 => 0x3F4AA2C9#32
  | 21 => 0xBF7EBC30#32
  | 22 => 0x3FEC6BEE#32
  | 23 => 0xBF7E14E6#32
  | 24 => 0x3FE9060F#32
  | 25 => 0x3FCAF730#32
  | 26 => 0x3F1C81CC#32
  | 27 => 0xBECF8067#32
  | 28 => 0x40282DB0#32
  | 29 => 0x4021C990#32
  | 30 => 0xBF937B8F#32
  | 31 => 0x3FA0081D#32
  | 32 => 0xBE3D1ACB#32
  | 33 => 0xBF0AA345#32
  | 34 => 0x3FC3CF33#32
  | 35 => 0xBEE5701D#32
  | 36 => 0xBF9FBAEC#32
  | 37 => 0x3ECB27FB#32
  | 38 => 0x3E4CDD2C#32
  | 39 => 0x3FFBC7D9#32
  | 40 => 0xBFA5FC3B#32
  | 41 => 0xBF2FFE31#32
  | 42 => 0xBD77D566#32
  | 43 => 0x3D6681D6#32
  | 44 => 0xBE82E08F#32
  | 45 => 0x3F57D0E3#32
  | 46 => 0xBE3C0963#32
  | 47 => 0x3F92C9F3#32
  | 48 => 0x3E6AF4C6#32
  | 49 => 0x3FC0F0D3#32
  | 50 => 0x4007CE63#32
  | 51 => 0x4080E3F9#32
  | 52 => 0x40055BEA#32
  | 53 => 0x3FF3BC4A#32
  | 54 => 0x3FB15696#32
  | 55 => 0x3FEC5994#32
  | 56 => 0xBF7DBCCE#32
  | 57 => 0x40574E7D#32
  | 58 => 0x3FC9B766#32
  | 59 => 0x3FAD4D6E#32
  | 60 => 0x4006BAFD#32
  | 61 => 0x3F0A0E52#32
  | 62 => 0x3FD90D6B#32
  | 63 => 0xBE96F5E2#32
  | 64 => 0x40AF6A89#32
  | 65 => 0x3EFE1A0A#32
  | 66 => 0x3F848EDC#32
  | 67 => 0xBDDDE4AF#32
  | 68 => 0x3EEA2362#32
  | 69 => 0xBE6029FF#32
  | 70 => 0x3FEED0EB#32
  | 71 => 0x3EC34FE1#32
  | 72 => 0xBE81B362#32
  | 73 => 0x3FA980A3#32
  | 74 => 0x3ED76E63#32
  | 75 => 0x3F309B30#32
  | 76 => 0x3FDEA1FC#32
  | 77 => 0xBEC24B23#32
  | 78 => 0x3F61A596#32
  | 79 => 0xBEF08EFA#32
  | 80 => 0x4015DAE3#32
  | 81 => 0xBEF5AEAC#32
  | 82 => 0x3FA01815#32
  | 83 => 0x3EA35EF1#32
  | 84 => 0x3E00BF02#32
  | 85 => 0xBF5C9754#32
  | 86 => 0x3E6AE7E6#32
  | 87 => 0xBDEF5DF7#32
  | 88 => 0x3E14D9CD#32
  | 89 => 0xBEFCA84E#32
  | 90 => 0xBEDB9880#32
  | 91 => 0xBD93B886#32
  | 92 => 0x3FD39DB4#32
  | 93 => 0x400BF4B4#32
  | 94 => 0x3F3E15AB#32
  | 95 => 0x4051BD10#32
  | 96 => 0x3FE99832#32
  | 97 => 0x3F38D0DE#32
  | 98 => 0xBF6DF724#32
  | 99 => 0x4020E749#32
  | 100 => 0xBED67089#32
  | 101 => 0x3FCF2C5A#32
  | 102 => 0x3E056C8B#32
  | 103 => 0xBDCD5705#32
  | 104 => 0x3EDC8825#32
  | 105 => 0x3FD4F874#32
  | 106 => 0x3F063474#32
  | 107 => 0x3F2EFFF0#32
  | 108 => 0xBE8C6B81#32
  | 109 => 0xBF344B95#32
  | 110 => 0x3DB485FF#32
  | 111 => 0x3F5CE56E#32
  | 112 => 0x3FC4B849#32
  | 113 => 0xBF5A85C0#32
  | 114 => 0x40355B88#32
  | 115 => 0x3F1532F8#32
  | 116 => 0x3E82E105#32
  | 117 => 0x3F682B73#32
  | 118 => 0x3E9A18E7#32
  | 119 => 0x3EC0FF59#32
  | 120 => 0x3ED64A10#32
  | 121 => 0xBFBA563B#32
  | 122 => 0x3FD5DB04#32
  | 123 => 0x40592589#32
  | 124 => 0xBEE66478#32
  | 125 => 0xBF4F26A0#32
  | 126 => 0x4024D9D7#32
  | 127 => 0x406155D8#32
  | _ => 0#32

noncomputable abbrev lit0t0_582 (i : Nat) : BitVec 32 := match i % 128 with
  | 0 => 0xBE16F878#32
  | 1 => 0x3EED06C8#32
  | 2 => 0xBE3D2FF7#32
  | 3 => 0x4000FC6D#32
  | 4 => 0x3FE0F11F#32
  | 5 => 0x3E176246#32
  | 6 => 0x3F7BAA50#32
  | 7 => 0xBE214910#32
  | 8 => 0x3DF88E5D#32
  | 9 => 0x40009ABD#32
  | 10 => 0xBF36E3E1#32
  | 11 => 0x3F65795C#32
  | 12 => 0xBED3E090#32
  | 13 => 0x3F35E3C5#32
  | 14 => 0x3F0E3C8E#32
  | 15 => 0x3FAD25ED#32
  | 16 => 0xBF5D6D41#32
  | 17 => 0x3F13277C#32
  | 18 => 0xBC67B0A4#32
  | 19 => 0xBD9E51A9#32
  | 20 => 0x408E1A1C#32
  | 21 => 0xBD421DE2#32
  | 22 => 0x3FF0982E#32
  | 23 => 0x3F29215F#32
  | 24 => 0xBEEA1D2E#32
  | 25 => 0xBFA33A49#32
  | 26 => 0xBF065C2C#32
  | 27 => 0xBF0D42BC#32
  | 28 => 0x3F0F52CA#32
  | 29 => 0x3F2BFC5F#32
  | 30 => 0x3F912D70#32
  | 31 => 0x3EF62104#32
  | 32 => 0x3FF2E49A#32
  | 33 => 0x3E5DC233#32
  | 34 => 0xBEC87DD9#32
  | 35 => 0x3E1B953A#32
  | 36 => 0x4066AF0E#32
  | 37 => 0xBFA47448#32
  | 38 => 0x3F1697F6#32
  | 39 => 0xBEE9EA80#32
  | 40 => 0xBF63F35D#32
  | 41 => 0x3E582918#32
  | 42 => 0x3F2BFCC1#32
  | 43 => 0xBF24AE23#32
  | 44 => 0x3F3BA328#32
  | 45 => 0x3E331860#32
  | 46 => 0xBE4E402B#32
  | 47 => 0x3D2B876E#32
  | 48 => 0xBE5D93EB#32
  | 49 => 0x3F9F91CA#32
  | 50 => 0xBE6DBDE2#32
  | 51 => 0x3FABB646#32
  | 52 => 0x40054639#32
  | 53 => 0xBEF499EE#32
  | 54 => 0x3F82AA88#32
  | 55 => 0x3E332444#32
  | 56 => 0xBF162A5C#32
  | 57 => 0xBF042252#32
  | 58 => 0x402C6564#32
  | 59 => 0x3F1C3A40#32
  | 60 => 0x3FA43612#32
  | 61 => 0x4025A98F#32
  | 62 => 0xBF8CAA24#32
  | 63 => 0x3F0F5E2B#32
  | 64 => 0xBF8E9C4F#32
  | 65 => 0xBE3ADC76#32
  | 66 => 0xBF2EB7F9#32
  | 67 => 0x404B8A4D#32
  | 68 => 0x3F244230#32
  | 69 => 0x405617E0#32
  | 70 => 0xBEC33969#32
  | 71 => 0xBEEE8BD2#32
  | 72 => 0xBFD8D297#32
  | 73 => 0xBE830A06#32
  | 74 => 0x4061B7E1#32
  | 75 => 0x3F9D5603#32
  | 76 => 0xBEBE4325#32
  | 77 => 0x3E528F90#32
  | 78 => 0x408FF95D#32
  | 79 => 0x3F94D393#32
  | 80 => 0xBF1B218C#32
  | 81 => 0xBF8E2119#32
  | 82 => 0xBFD99977#32
  | 83 => 0xBF027ECC#32
  | 84 => 0x3FADF101#32
  | 85 => 0x3E3B4411#32
  | 86 => 0x3F931DF6#32
  | 87 => 0x3F2DED66#32
  | 88 => 0x3F8507E6#32
  | 89 => 0x4025DE61#32
  | 90 => 0x3F3E9D47#32
  | 91 => 0xBF34A26D#32
  | 92 => 0xBC2EBAA2#32
  | 93 => 0x3FC3C8C6#32
  | 94 => 0xBE0E5D43#32
  | 95 => 0x3ED86B0A#32
  | 96 => 0xBEF195E7#32
  | 97 => 0x4007D1FE#32
  | 98 => 0x3FFB573E#32
  | 99 => 0x3F8A5277#32
  | 100 => 0x3F3F4A82#32
  | 101 => 0x3F364CCD#32
  | 102 => 0x3FC75D36#32
  | 103 => 0xBEC13B12#32
  | 104 => 0x3F158B6D#32
  | 105 => 0x3F574870#32
  | 106 => 0x3E95E774#32
  | 107 => 0x3F00061E#32
  | 108 => 0xBDB214BA#32
  | 109 => 0x3FE0D1A0#32
  | 110 => 0x3F1AD0C7#32
  | 111 => 0xBEFD3744#32
  | 112 => 0xBE8004BF#32
  | 113 => 0x3E35E902#32
  | 114 => 0xBD0F93D4#32
  | 115 => 0x406D4556#32
  | 116 => 0x409DC2F1#32
  | 117 => 0x3F7774E3#32
  | 118 => 0x3DD1D9F4#32
  | 119 => 0x3EFE9996#32
  | 120 => 0x3F5E13A2#32
  | 121 => 0xBE9F6F86#32
  | 122 => 0x3F7C3BA0#32
  | 123 => 0x409EB194#32
  | 124 => 0x40B88D77#32
  | 125 => 0x3F13F6D3#32
  | 126 => 0x408BC18E#32
  | 127 => 0x3F2BC5C8#32
  | _ => 0#32

noncomputable abbrev lit0t0_583 (i : Nat) : BitVec 32 := match i % 128 with
  | 0 => 0x3F795A6C#32
  | 1 => 0xBF485C93#32
  | 2 => 0xBE467210#32
  | 3 => 0xBE8060B2#32
  | 4 => 0x407F4CEB#32
  | 5 => 0x3F86D045#32
  | 6 => 0x3F8F0159#32
  | 7 => 0x3E395ED4#32
  | 8 => 0x3F0C2000#32
  | 9 => 0x3EACC3FC#32
  | 10 => 0x3FE48DBD#32
  | 11 => 0xBF3AF3F6#32
  | 12 => 0xBF06711F#32
  | 13 => 0x4045CAA9#32
  | 14 => 0x40552183#32
  | 15 => 0x3F4F0A8A#32
  | 16 => 0x3EDE54D8#32
  | 17 => 0x3F172193#32
  | 18 => 0xBE899B77#32
  | 19 => 0x3F20503E#32
  | 20 => 0x3F4042D5#32
  | 21 => 0xBF5DB57D#32
  | 22 => 0xBEE49124#32
  | 23 => 0x3EDC36CB#32
  | 24 => 0xBF1F6972#32
  | 25 => 0xBB2F7BCD#32
  | 26 => 0xBFA11717#32
  | 27 => 0x3FC6F2AC#32
  | 28 => 0xBEE7FA22#32
  | 29 => 0xBF54C22F#32
  | 30 => 0x3F8C0EA2#32
  | 31 => 0x404A65E3#32
  | 32 => 0xBF650C5C#32
  | 33 => 0xBF6B5CD7#32
  | 34 => 0x4011B80A#32
  | 35 => 0xC002DF3B#32
  | 36 => 0x3FA641F0#32
  | 37 => 0xBE596F79#32
  | 38 => 0x3F3BCA2D#32
  | 39 => 0xBF53561F#32
  | 40 => 0x3F7C5054#32
  | 41 => 0x3F92BD6B#32
  | 42 => 0xBF5CEA19#32
  | 43 => 0x3F440F78#32
  | 44 => 0x3ECF59C5#32
  | 45 => 0x3FC4606D#32
  | 46 => 0x3F755990#32
  | 47 => 0xBEB5C4AE#32
  | 48 => 0x3E76D243#32
  | 49 => 0x3E9A4510#32
  | 50 => 0xBEAD148B#32
  | 51 => 0xBE4552E1#32
  | 52 => 0x3F026750#32
  | 53 => 0xBE9026E8#32
  | 54 => 0xBF28F621#32
  | 55 => 0x4082785B#32
  | 56 => 0x3DA1E713#32
  | 57 => 0x3FCA5FB8#32
  | 58 => 0x40084CD3#32
  | 59 => 0xBEE9B202#32
  | 60 => 0x3EBB526C#32
  | 61 => 0xBE72B5DA#32
  | 62 => 0xBF5DFD28#32
  | 63 => 0xBE86FAD6#32
  | 64 => 0x3FDDB34A#32
  | 65 => 0x3F8D568C#32
  | 66 => 0x3F9255B8#32
  | 67 => 0x3E97E4EC#32
  | 68 => 0x400E3981#32
  | 69 => 0xBF89E49E#32
  | 70 => 0xBE6C2734#32
  | 71 => 0x3FDF8F31#32
  | 72 => 0xBF23E09C#32
  | 73 => 0x3F49BCC8#32
  | 74 => 0x3E0CC557#32
  | 75 => 0xBF58AA28#32
  | 76 => 0x3FF4F8B8#32
  | 77 => 0x3FDDCA7C#32
  | 78 => 0xBEA1C3AF#32
  | 79 => 0x3F000220#32
  | 80 => 0x3E3EF363#32
  | 81 => 0x3CF8166B#32
  | 82 => 0x409C83FD#32
  | 83 => 0xBEC12307#32
  | 84 => 0xBE0A00F2#32
  | 85 => 0x3FE68855#32
  | 86 => 0xBEB68508#32
  | 87 => 0xBF819DFC#32
  | 88 => 0xBD267544#32
  | 89 => 0xBE0348EF#32
  | 90 => 0xBF3A19E8#32
  | 91 => 0x3FDEB2FC#32
  | 92 => 0x3F90BB9A#32
  | 93 => 0x3E23C15C#32
  | 94 => 0x3FDA893E#32
  | 95 => 0xBFA92F15#32
  | 96 => 0x3F61E8E8#32
  | 97 => 0x3FE33BCD#32
  | 98 => 0xBE83680D#32
  | 99 => 0xBEBBAE75#32
  | 100 => 0xBF50A99C#32
  | 101 => 0xBEA43A7D#32
  | 102 => 0xBF803E4B#32
  | 103 => 0x4003F2C9#32
  | 104 => 0xBF954CF2#32
  | 105 => 0xBFC87B89#32
  | 106 => 0xBE83FBB6#32
  | 107 => 0x3FF034F3#32
  | 108 => 0x4078D008#32
  | 109 => 0xBD34D003#32
  | 110 => 0x3FB23E8A#32
  | 111 => 0x3E6DDFEE#32
  | 112 => 0x3F311CFA#32
  | 113 => 0x4082D634#32
  | 114 => 0x3F288DF3#32
  | 115 => 0x3F352336#32
  | 116 => 0xBF471178#32
  | 117 => 0x3EC984A5#32
  | 118 => 0xBECC21E8#32
  | 119 => 0xBF78C4F4#32
  | 120 => 0x3EE1C0DD#32
  | 121 => 0xBF8056A0#32
  | 122 => 0x3FF9AD22#32
  | 123 => 0x40770379#32
  | 124 => 0x3F1E92BB#32
  | 125 => 0xBFBD17A6#32
  | 126 => 0x4025C259#32
  | 127 => 0xBED79EAB#32
  | _ => 0#32

noncomputable abbrev lit0t0_584 (i : Nat) : BitVec 32 := match i % 128 with
  | 0 => 0x3F148079#32
  | 1 => 0x3F153606#32
  | 2 => 0xBE911829#32
  | 3 => 0xBEFB648E#32
  | 4 => 0x3F36DA6D#32
  | 5 => 0x3F3B0235#32
  | 6 => 0x3D4E3C51#32
  | 7 => 0x40098847#32
  | 8 => 0x3FF1FD14#32
  | 9 => 0x3D1D9120#32
  | 10 => 0xBE9AECF6#32
  | 11 => 0x3F05DFC6#32
  | 12 => 0xBDF28392#32
  | 13 => 0x400CA5DD#32
  | 14 => 0x3FCE11F2#32
  | 15 => 0xBDC8C110#32
  | 16 => 0x3D61C8B4#32
  | 17 => 0x3DA23372#32
  | 18 => 0x3EB5EEAC#32
  | 19 => 0x3F5E2C68#32
  | 20 => 0xBF80B41D#32
  | 21 => 0x3CE2B2E6#32
  | 22 => 0xBF4D79E2#32
  | 23 => 0x3FAF4022#32
  | 24 => 0x3FDA99FA#32
  | 25 => 0xBE86D263#32
  | 26 => 0xBF0D80BF#32
  | 27 => 0x3EA92ADA#32
  | 28 => 0x40558636#32
  | 29 => 0x3F6BF445#32
  | 30 => 0xBF19FFBA#32
  | 31 => 0x3F8D0C17#32
  | 32 => 0x3FFF80A5#32
  | 33 => 0x3FC36A67#32
  | 34 => 0x3F32A486#32
  | 35 => 0xBF89191B#32
  | 36 => 0xBF1323D3#32
  | 37 => 0x3F3FB773#32
  | 38 => 0x400AD72E#32
  | 39 => 0xBCEE793A#32
  | 40 => 0xBEBB5B8D#32
  | 41 => 0x40117EE8#32
  | 42 => 0xBE2CF3A3#32
  | 43 => 0x3FF74534#32
  | 44 => 0x3F1EFB54#32
  | 45 => 0x3EF6CA06#32
  | 46 => 0x3F56DC3A#32
  | 47 => 0x3EFEE11A#32
  | 48 => 0xBEBF85C6#32
  | 49 => 0xBE97C3EC#32
  | 50 => 0x3F0057B1#32
  | 51 => 0x3E5330CE#32
  | 52 => 0xBE3957C6#32
  | 53 => 0x3F2FAC0A#32
  | 54 => 0xBED4A3C2#32
  | 55 => 0x3D8C7ACF#32
  | 56 => 0xBFA2FA20#32
  | 57 => 0x3F749F1A#32
  | 58 => 0x40945BF8#32
  | 59 => 0xBEEF0E86#32
  | 60 => 0xBC406B9A#32
  | 61 => 0x3E87D735#32
  | 62 => 0x3E66290C#32
  | 63 => 0xBEAAA539#32
  | 64 => 0x3DEC6F4E#32
  | 65 => 0x40222283#32
  | 66 => 0xBF90FF15#32
  | 67 => 0x4004D121#32
  | 68 => 0xBF1520AC#32
  | 69 => 0x3FCE7BC7#32
  | 70 => 0x3FA52864#32
  | 71 => 0x408BAB99#32
  | 72 => 0xBF57E041#32
  | 73 => 0xBEDC4742#32
  | 74 => 0xBE23B0E3#32
  | 75 => 0x3FF7FEBB#32
  | 76 => 0x3E20F005#32
  | 77 => 0x3FA44A27#32
  | 78 => 0x3F8CC7BC#32
  | 79 => 0x40166376#32
  | 80 => 0x3D8E1D8A#32
  | 81 => 0xBD03CC4C#32
  | 82 => 0x3F2A4BED#32
  | 83 => 0x3FE204FA#32
  | 84 => 0x3FCF261B#32
  | 85 => 0x3F5A0B19#32
  | 86 => 0x3CBDEA7B#32
  | 87 => 0x3ED0ED3A#32
  | 88 => 0xBF3EF1A3#32
  | 89 => 0x3F6916D3#32
  | 90 => 0x3FAEB521#32
  | 91 => 0x3FF56297#32
  | 92 => 0xBEDC1BA8#32
  | 93 => 0x40428D43#32
  | 94 => 0x3FC142A5#32
  | 95 => 0xBEDB22DC#32
  | 96 => 0xBF91768A#32
  | 97 => 0x3F12A437#32
  | 98 => 0x3EF7407A#32
  | 99 => 0x3F49CBB2#32
  | 100 => 0x3F05CC2D#32
  | 101 => 0x40B1E418#32
  | 102 => 0x403CD37D#32
  | 103 => 0x405521BD#32
  | 104 => 0x3F61DFA0#32
  | 105 => 0x40015DBF#32
  | 106 => 0x3F44BC51#32
  | 107 => 0xBF9B80F4#32
  | 108 => 0x3F952FA8#32
  | 109 => 0x4002AA8C#32
  | 110 => 0xBF80E77A#32
  | 111 => 0x40161174#32
  | 112 => 0x3F933D54#32
  | 113 => 0x3F35ABEF#32
  | 114 => 0xBF344B59#32
  | 115 => 0x3F5E9435#32
  | 116 => 0x40103BF4#32
  | 117 => 0x3FDB8B7F#32
  | 118 => 0x3F63CDCB#32
  | 119 => 0x3E4BF0A2#32
  | 120 => 0xBD0DB739#32
  | 121 => 0xBD001EE5#32
  | 122 => 0xBFA6A02F#32
  | 123 => 0x408D45AC#32
  | 124 => 0xBF53B6B1#32
  | 125 => 0x3FC9FF7C#32
  | 126 => 0x3FA21200#32
  | 127 => 0x3F98830B#32
  | _ => 0#32

noncomputable abbrev lit0t0_585 (i : Nat) : BitVec 32 := match i % 128 with
  | 0 => 0xBF1F91D7#32
  | 1 => 0x3E9A0F4C#32
  | 2 => 0x3F419812#32
  | 3 => 0x406CB301#32
  | 4 => 0x3FD40CE9#32
  | 5 => 0x405AABD1#32
  | 6 => 0x40010267#32
  | 7 => 0x3EE8CB48#32
  | 8 => 0x4000D27A#32
  | 9 => 0x3F0150DC#32
  | 10 => 0xBE20A036#32
  | 11 => 0x3F0DE37E#32
  | 12 => 0xBEE197D1#32
  | 13 => 0xBF104BFB#32
  | 14 => 0x3F9A743E#32
  | 15 => 0xBEEF4249#32
  | 16 => 0x3E2A3727#32
  | 17 => 0xBE956ACE#32
  | 18 => 0xBF07AF34#32
  | 19 => 0x3DD1AA50#32
  | 20 => 0x3FD09FB1#32
  | 21 => 0x40C70FDB#32
  | 22 => 0x3F4DB35E#32
  | 23 => 0xBFA060EF#32
  | 24 => 0x3D1DE1AB#32
  | 25 => 0x3F90CF4A#32
  | 26 => 0x3EF95CFC#32
  | 27 => 0xBF5E06F2#32
  | 28 => 0x3E4CAC73#32
  | 29 => 0x3EB2F9DD#32
  | 30 => 0xBECEAFEA#32
  | 31 => 0xBE5F9041#32
  | 32 => 0x40839639#32
  | 33 => 0xBD5FC4D9#32
  | 34 => 0xBE866FB5#32
  | 35 => 0xBEB24294#32
  | 36 => 0xBEAB7002#32
  | 37 => 0x3EB0BAB5#32
  | 38 => 0x3F55A729#32
  | 39 => 0xBD6C356B#32
  | 40 => 0x3F5EC800#32
  | 41 => 0x3F869FFE#32
  | 42 => 0x3FC77468#32
  | 43 => 0x401750EB#32
  | 44 => 0xBF52AA8F#32
  | 45 => 0x3FBF5993#32
  | 46 => 0x3F1ECAAA#32
  | 47 => 0x40056CD7#32
  | 48 => 0x3F3447AA#32
  | 49 => 0x3F80B822#32
  | 50 => 0xBE8A5DFC#32
  | 51 => 0x3F3F8685#32
  | 52 => 0x3F34E14B#32
  | 53 => 0x3F87E07B#32
  | 54 => 0x3E020BA6#32
  | 55 => 0x401CC9A6#32
  | 56 => 0xBFD4E895#32
  | 57 => 0x3F86EF1A#32
  | 58 => 0xBF11C063#32
  | 59 => 0x407FD20A#32
  | 60 => 0x3FD5F726#32
  | 61 => 0x3F85A77F#32
  | 62 => 0xBDB3702A#32
  | 63 => 0xBF4FC593#32
  | 64 => 0x409B9EBE#32
  | 65 => 0xBF3D4AD6#32
  | 66 => 0xBC5150C0#32
  | 67 => 0xBFA907BA#32
  | 68 => 0x3D1E209D#32
  | 69 => 0xBE4F2826#32
  | 70 => 0xBF911F11#32
  | 71 => 0xBF1C8A5F#32
  | 72 => 0x400FFDA7#32
  | 73 => 0xBEF1933B#32
  | 74 => 0xBF70B8B2#32
  | 75 => 0x3E6CBCCF#32
  | 76 => 0x400E5A74#32
  | 77 => 0xBF0DC388#32
  | 78 => 0x3F89DB04#32
  | 79 => 0xBFCB1D27#32
  | 80 => 0x3FB93EB0#32
  | 81 => 0x3FC5496C#32
  | 82 => 0x3EC04BD0#32
  | 83 => 0x400C21B2#32
  | 84 => 0xC000CF87#32
  | 85 => 0x408D0C2F#32
  | 86 => 0xBF746D54#32
  | 87 => 0x3F480612#32
  | 88 => 0xBF974C2E#32
  | 89 => 0x3FDAB341#32
  | 90 => 0xBEAFC286#32
  | 91 => 0x4043AD44#32
  | 92 => 0xBD53E173#32
  | 93 => 0x4024B148#32
  | 94 => 0x3FA827D9#32
  | 95 => 0x3FFA9877#32
  | 96 => 0x40B9EB65#32
  | 97 => 0xBCEB06D9#32
  | 98 => 0x4058CE70#32
  | 99 => 0xBE94F7C7#32
  | 100 => 0xBEF0C3FC#32
  | 101 => 0x3F570022#32
  | 102 => 0xBF21D89E#32
  | 103 => 0xBE0E080D#32
  | 104 => 0xBFC1322A#32
  | 105 => 0x400696C9#32
  | 106 => 0xBE42B668#32
  | 107 => 0x3F8A9DD1#32
  | 108 => 0x3F2FE934#32
  | 109 => 0xBFB0DD60#32
  | 110 => 0x3F1691A8#32
  | 111 => 0x3E073EB7#32
  | 112 => 0x3F190BA2#32
  | 113 => 0x401B2A85#32
  | 114 => 0xBE712CA1#32
  | 115 => 0x3DA6B304#32
  | 116 => 0x4015A3DD#32
  | 117 => 0x400D5E34#32
  | 118 => 0x3F9EA111#32
  | 119 => 0x3FB78270#32
  | 120 => 0x3E879C84#32
  | 121 => 0x3F8B5116#32
  | 122 => 0x3CF94308#32
  | 123 => 0xBEBED63B#32
  | 124 => 0xBF5CE151#32
  | 125 => 0xBD36016F#32
  | 126 => 0x3FFCC299#32
  | 127 => 0xBF5A02C1#32
  | _ => 0#32

noncomputable abbrev lit0t0_586 (i : Nat) : BitVec 32 := match i % 128 with
  | 0 => 0xBEEC0982#32
  | 1 => 0x40282FE5#32
  | 2 => 0x3E523298#32
  | 3 => 0x405E9F4D#32
  | 4 => 0x3F618C54#32
  | 5 => 0x3DB0AB85#32
  | 6 => 0x3E81DBF4#32
  | 7 => 0xBF24A64A#32
  | 8 => 0x3FE4808C#32
  | 9 => 0x3EEAEAA4#32
  | 10 => 0xBF98F403#32
  | 11 => 0x3E7189E5#32
  | 12 => 0x3FAEF0B7#32
  | 13 => 0x3ED91869#32
  | 14 => 0x3FB7E5A3#32
  | 15 => 0x3F41EEE8#32
  | 16 => 0x3CBA909F#32
  | 17 => 0x3F8C8AF4#32
  | 18 => 0x3FCA869D#32
  | 19 => 0xBEB8F112#32
  | 20 => 0xBD7CDDF0#32
  | 21 => 0x3FEE1C5A#32
  | 22 => 0x400A67EB#32
  | 23 => 0x3EC95A20#32
  | 24 => 0x40CDCB40#32
  | 25 => 0xBC97B13B#32
  | 26 => 0xBF8AEB51#32
  | 27 => 0x3FAA076D#32
  | 28 => 0x40176CEC#32
  | 29 => 0x3E3A12E2#32
  | 30 => 0x3FBF0C7C#32
  | 31 => 0xBFA39063#32
  | 32 => 0xBE6ED423#32
  | 33 => 0x3FAFFA70#32
  | 34 => 0xBEA70A4B#32
  | 35 => 0x3FB9D004#32
  | 36 => 0x3F760E62#32
  | 37 => 0x3F4BDAF4#32
  | 38 => 0x3F4C7766#32
  | 39 => 0x3EA4067C#32
  | 40 => 0xBE8F608A#32
  | 41 => 0x3FF0F887#32
  | 42 => 0x3F16023A#32
  | 43 => 0x3F045950#32
  | 44 => 0x40267F60#32
  | 45 => 0x3F7155A9#32
  | 46 => 0x3F045A9E#32
  | 47 => 0xBED70A26#32
  | 48 => 0xBE56692C#32
  | 49 => 0xBF064C0A#32
  | 50 => 0x3F487AD6#32
  | 51 => 0x3EA32930#32
  | 52 => 0xBCE39A09#32
  | 53 => 0x400CD3CE#32
  | 54 => 0x3F85DDEB#32
  | 55 => 0x3FC8A15C#32
  | 56 => 0x4040234A#32
  | 57 => 0xBF043A9B#32
  | 58 => 0x3EC5DD30#32
  | 59 => 0x4038019B#32
  | 60 => 0x3F8DE38C#32
  | 61 => 0x3FB52C23#32
  | 62 => 0x3E3AA01E#32
  | 63 => 0x3E8A4706#32
  | 64 => 0x3FDA58FB#32
  | 65 => 0x3F9D4986#32
  | 66 => 0xBEC635C4#32
  | 67 => 0x3F5A8EC6#32
  | 68 => 0xBF1326BC#32
  | 69 => 0xBF5F3A5B#32
  | 70 => 0x3F452CC4#32
  | 71 => 0x3F919CC7#32
  | 72 => 0xBEF328DD#32
  | 73 => 0xBED40BF9#32
  | 74 => 0x3DA3BB65#32
  | 75 => 0xBF3FA21D#32
  | 76 => 0x3FBC4CB6#32
  | 77 => 0x3D8E4071#32
  | 78 => 0x3F965C6B#32
  | 79 => 0xBF19BF4F#32
  | 80 => 0xBCEF76F7#32
  | 81 => 0xBC92A9E3#32
  | 82 => 0x3F13C177#32
  | 83 => 0xBF60D650#32
  | 84 => 0x3F837D7C#32
  | 85 => 0x3E23E4B0#32
  | 86 => 0xBEEC9006#32
  | 87 => 0x3F0C7CB4#32
  | 88 => 0xBF3C5ABD#32
  | 89 => 0xBF72E6FA#32
  | 90 => 0xBF48BEE1#32
  | 91 => 0x3F221B6D#32
  | 92 => 0xBF08858F#32
  | 93 => 0xBE16C6A8#32
  | 94 => 0xBE961B17#32
  | 95 => 0x3FCD1981#32
  | 96 => 0x3F35961D#32
  | 97 => 0xBF6AC734#32
  | 98 => 0x3F506CE8#32
  | 99 => 0xBF204A84#32
  | 100 => 0xBF8E8CF6#32
  | 101 => 0x3FAE7CDA#32
  | 102 => 0xBEEA7D51#32
  | 103 => 0xBD079A3B#32
  | 104 => 0x3DF5D325#32
  | 105 => 0x3F1AC2BF#32
  | 106 => 0x3E30E6FD#32
  | 107 => 0x3F5DD04F#32
  | 108 => 0xBF6B74DE#32
  | 109 => 0x3E2C7826#32
  | 110 => 0x3D600B48#32
  | 111 => 0x3F250550#32
  | 112 => 0x404591FE#32
  | 113 => 0xBDB4DC06#32
  | 114 => 0xBD37905A#32
  | 115 => 0xBEC9CD4A#32
  | 116 => 0x3FEC4604#32
  | 117 => 0x4039F86D#32
  | 118 => 0x3D22EACD#32
  | 119 => 0xBCB816FE#32
  | 120 => 0xBF4FFFEE#32
  | 121 => 0x3F51E833#32
  | 122 => 0x3F7E3F8C#32
  | 123 => 0x3F39233C#32
  | 124 => 0xBF81CD5E#32
  | 125 => 0x3CD5E21A#32
  | 126 => 0xBF89D372#32
  | 127 => 0x3F2BC15A#32
  | _ => 0#32

noncomputable abbrev lit0t0_587 (i : Nat) : BitVec 32 := match i % 128 with
  | 0 => 0x3FAC7E2F#32
  | 1 => 0xBF573562#32
  | 2 => 0x3F88F5EF#32
  | 3 => 0x40479412#32
  | 4 => 0xBF2E24E0#32
  | 5 => 0x3F27E548#32
  | 6 => 0x3F871901#32
  | 7 => 0x405C8EBF#32
  | 8 => 0x3F1D0CDB#32
  | 9 => 0x403AAAF4#32
  | 10 => 0xBD49913F#32
  | 11 => 0x3F6B00FA#32
  | 12 => 0xBE4CCBFC#32
  | 13 => 0xBF1EA8BE#32
  | 14 => 0x3E843590#32
  | 15 => 0x3FD5574C#32
  | 16 => 0x4048469D#32
  | 17 => 0x4025A830#32
  | 18 => 0x4029383F#32
  | 19 => 0x3D73DF45#32
  | 20 => 0x3FD43082#32
  | 21 => 0x4043C9A4#32
  | 22 => 0xBF48C53A#32
  | 23 => 0x3F7D95B1#32
  | 24 => 0x3ED1790F#32
  | 25 => 0x3F6F0F90#32
  | 26 => 0x3E66948B#32
  | 27 => 0x4038D9A6#32
  | 28 => 0xBFA2E603#32
  | 29 => 0x4000605F#32
  | 30 => 0x3F216420#32
  | 31 => 0xBEF9C67A#32
  | 32 => 0xBF704C4E#32
  | 33 => 0x3F1D1CE0#32
  | 34 => 0xBEDF1919#32
  | 35 => 0x3E9DE71D#32
  | 36 => 0x3EF11DB6#32
  | 37 => 0x3E39C62D#32
  | 38 => 0xBF83764A#32
  | 39 => 0x40071A08#32
  | 40 => 0x3D244454#32
  | 41 => 0x4068CD91#32
  | 42 => 0x3F8E5514#32
  | 43 => 0x3EBB2974#32
  | 44 => 0xBE3F2EB9#32
  | 45 => 0x3FE2A92B#32
  | 46 => 0x3E4CE048#32
  | 47 => 0x3FFF0628#32
  | 48 => 0xBF95374E#32
  | 49 => 0x3E78238D#32
  | 50 => 0x3EFF84CE#32
  | 51 => 0xBF6E36DA#32
  | 52 => 0x3E6D950A#32
  | 53 => 0x3EFF054C#32
  | 54 => 0x3EDC2433#32
  | 55 => 0x4087C993#32
  | 56 => 0x401339CB#32
  | 57 => 0x400A364E#32
  | 58 => 0x3FAB1899#32
  | 59 => 0xBF1E85CF#32
  | 60 => 0x3F7877E6#32
  | 61 => 0xBF2429E2#32
  | 62 => 0x3FA1CCB6#32
  | 63 => 0x3D73AC98#32
  | 64 => 0xBF78A7D8#32
  | 65 => 0xBDEE9C79#32
  | 66 => 0x3F1BE36D#32
  | 67 => 0xBEB50098#32
  | 68 => 0xBE810C19#32
  | 69 => 0x3E49437D#32
  | 70 => 0x3FE955C7#32
  | 71 => 0x3FB49742#32
  | 72 => 0x4064C634#32
  | 73 => 0x3FB9335D#32
  | 74 => 0xBEC6E127#32
  | 75 => 0x3FA4DAE8#32
  | 76 => 0x3F611593#32
  | 77 => 0x3EB48ADE#32
  | 78 => 0xBEC5BB66#32
  | 79 => 0x3FEBAEDE#32
  | 80 => 0x3F36EF06#32
  | 81 => 0x3ED92F90#32
  | 82 => 0x4006F2F0#32
  | 83 => 0x3EBBC529#32
  | 84 => 0xBF3DEB88#32
  | 85 => 0x3E4DB1AE#32
  | 86 => 0xBCCCB09C#32
  | 87 => 0xBE5BFFF0#32
  | 88 => 0x3D63D46A#32
  | 89 => 0xBC97F535#32
  | 90 => 0x3ECECCF0#32
  | 91 => 0xBDF73BF8#32
  | 92 => 0xBE99E76D#32
  | 93 => 0xBF2A65FB#32
  | 94 => 0xBEEE6512#32
  | 95 => 0xBFBD09FA#32
  | 96 => 0x3DDA098A#32
  | 97 => 0x3F832931#32
  | 98 => 0xBFAEFB62#32
  | 99 => 0x3D0A9935#32
  | 100 => 0xBFC0D18E#32
  | 101 => 0xBF086498#32
  | 102 => 0xBE83A710#32
  | 103 => 0x3FED20E9#32
  | 104 => 0xBCAD83BC#32
  | 105 => 0xBF6F53D3#32
  | 106 => 0x3E8821B2#32
  | 107 => 0x40044A4B#32
  | 108 => 0x3DEBC6E8#32
  | 109 => 0xBF80189E#32
  | 110 => 0x3F226189#32
  | 111 => 0xBEC4AD1E#32
  | 112 => 0xBFB76DE7#32
  | 113 => 0xBEAB3BD0#32
  | 114 => 0x40244817#32
  | 115 => 0xBF5E2E58#32
  | 116 => 0x3EC99F57#32
  | 117 => 0x40197F4E#32
  | 118 => 0xBF817F9F#32
  | 119 => 0x40919A7B#32
  | 120 => 0x3F232179#32
  | 121 => 0x3F247D92#32
  | 122 => 0xBE8016D1#32
  | 123 => 0xBF231FE5#32
  | 124 => 0xBF3AA00E#32
  | 125 => 0x3F8CE63E#32
  | 126 => 0x4018269C#32
  | 127 => 0x3F9057A7#32
  | _ => 0#32

noncomputable abbrev lit0t0_588 (i : Nat) : BitVec 32 := match i % 128 with
  | 0 => 0xBFB09514#32
  | 1 => 0xBF1303DE#32
  | 2 => 0x3F69FF30#32
  | 3 => 0x3E7FB8F7#32
  | 4 => 0x3FF32411#32
  | 5 => 0xBBA9B54E#32
  | 6 => 0x3FE6509F#32
  | 7 => 0xBF8593EF#32
  | 8 => 0x3F3CBFF4#32
  | 9 => 0x3E9B1BB6#32
  | 10 => 0x3F6E874F#32
  | 11 => 0x3EE4EC75#32
  | 12 => 0x402A4998#32
  | 13 => 0x3F1FC4DC#32
  | 14 => 0x3F70B2F9#32
  | 15 => 0x3DE53907#32
  | 16 => 0xBF658092#32
  | 17 => 0x40AD0785#32
  | 18 => 0x400AA68C#32
  | 19 => 0x403B6415#32
  | 20 => 0x3F665BE2#32
  | 21 => 0x4050E287#32
  | 22 => 0x3C7C3ECD#32
  | 23 => 0xBE0501B8#32
  | 24 => 0xBF1B1344#32
  | 25 => 0x3F04F0A0#32
  | 26 => 0x4030D2A7#32
  | 27 => 0x3FB94AB0#32
  | 28 => 0xBE8E0659#32
  | 29 => 0x40821E9F#32
  | 30 => 0x3F35C57A#32
  | 31 => 0x3F374DB1#32
  | 32 => 0xBF0B4B4D#32
  | 33 => 0x3FD5E29D#32
  | 34 => 0x3F6AF0D2#32
  | 35 => 0xBD37AAE3#32
  | 36 => 0x3F025656#32
  | 37 => 0x3FD06519#32
  | 38 => 0x3EB3EDCF#32
  | 39 => 0x3F3F8B43#32
  | 40 => 0x3E98FD87#32
  | 41 => 0xBF7D2DF2#32
  | 42 => 0xBF2945D7#32
  | 43 => 0xBEACAF9D#32
  | 44 => 0x401D6AD1#32
  | 45 => 0x3FA8A60B#32
  | 46 => 0xBE91563A#32
  | 47 => 0x3EED5A66#32
  | 48 => 0x3E56C4EF#32
  | 49 => 0xBF4E0D2E#32
  | 50 => 0x3FF53D86#32
  | 51 => 0x3EC52DA6#32
  | 52 => 0x3F7CE7A2#32
  | 53 => 0xBF4AF4C3#32
  | 54 => 0x404E2117#32
  | 55 => 0x40430E71#32
  | 56 => 0x3F2E6E1D#32
  | 57 => 0xBF723168#32
  | 58 => 0xBE371466#32
  | 59 => 0xBE810C73#32
  | 60 => 0x3F773A38#32
  | 61 => 0x3E2113DD#32
  | 62 => 0x3DDD30EB#32
  | 63 => 0x3F90E0F3#32
  | 64 => 0x3F88BDED#32
  | 65 => 0xBE27D98C#32
  | 66 => 0x40164828#32
  | 67 => 0xBF8A61C5#32
  | 68 => 0x3FB62EE1#32
  | 69 => 0x3FEA8A67#32
  | 70 => 0x4011B125#32
  | 71 => 0x3F74DD19#32
  | 72 => 0x3EBCF9B6#32
  | 73 => 0xBF4FF2C3#32
  | 74 => 0xBFAA26D9#32
  | 75 => 0x3FA46DF4#32
  | 76 => 0x3FE6F0B1#32
  | 77 => 0xBD97E350#32
  | 78 => 0x3FDB59C8#32
  | 79 => 0x3F85730A#32
  | 80 => 0xBEE4004A#32
  | 81 => 0xBF9DA0C3#32
  | 82 => 0xBF2BF9FC#32
  | 83 => 0x3F9AB1F4#32
  | 84 => 0x3F36F3DD#32
  | 85 => 0xBFB11401#32
  | 86 => 0xBF835D7B#32
  | 87 => 0x3DBBEFD3#32
  | 88 => 0x405FCC95#32
  | 89 => 0x3F0BA59B#32
  | 90 => 0x3F046E74#32
  | 91 => 0x406756ED#32
  | 92 => 0x3E8680C1#32
  | 93 => 0x400114F9#32
  | 94 => 0x401500C2#32
  | 95 => 0x3F8F68CF#32
  | 96 => 0x3D8C5531#32
  | 97 => 0x3FF2359F#32
  | 98 => 0x3EC58302#32
  | 99 => 0xBF9F823B#32
  | 100 => 0xBEC66C5E#32
  | 101 => 0x3EE2F800#32
  | 102 => 0xBE94578D#32
  | 103 => 0x405F84F6#32
  | 104 => 0x40003C78#32
  | 105 => 0xBE3927E5#32
  | 106 => 0x3F5F3DB6#32
  | 107 => 0xBF26C7F8#32
  | 108 => 0xBE573B7D#32
  | 109 => 0xBEBC74E7#32
  | 110 => 0xBEEA99A9#32
  | 111 => 0xBF865FF8#32
  | 112 => 0x3FCA1098#32
  | 113 => 0xBE0FA82A#32
  | 114 => 0x4087591F#32
  | 115 => 0xBE3FB917#32
  | 116 => 0x407BF74C#32
  | 117 => 0x3EFEB396#32
  | 118 => 0xBD8E32C6#32
  | 119 => 0x3EFAA2D3#32
  | 120 => 0xBF0FCD1C#32
  | 121 => 0x3F4EB037#32
  | 122 => 0x401A1C8E#32
  | 123 => 0xBEA5E2DA#32
  | 124 => 0x3F0CBE7C#32
  | 125 => 0xBF319F90#32
  | 126 => 0x4087AC19#32
  | 127 => 0x3F07769A#32
  | _ => 0#32

noncomputable abbrev lit0t0_589 (i : Nat) : BitVec 32 := match i % 128 with
  | 0 => 0x3FEA65BA#32
  | 1 => 0x3EA0706C#32
  | 2 => 0xBF133186#32
  | 3 => 0xBF6FD6AD#32
  | 4 => 0xBE9C5243#32
  | 5 => 0x3E534AE2#32
  | 6 => 0xBF55CECC#32
  | 7 => 0xBF1AAB78#32
  | 8 => 0x3EF629E3#32
  | 9 => 0xBF0A36E1#32
  | 10 => 0x40079D12#32
  | 11 => 0x3F69B003#32
  | 12 => 0x3EF6B0D7#32
  | 13 => 0xBF3194D2#32
  | 14 => 0x3FBF8223#32
  | 15 => 0x3F886808#32
  | 16 => 0x4008D240#32
  | 17 => 0x3E862780#32
  | 18 => 0x3F586993#32
  | 19 => 0xBD3A0E2A#32
  | 20 => 0x3F2A3E08#32
  | 21 => 0x3FD33222#32
  | 22 => 0xBF13DC80#32
  | 23 => 0x3FBE1D98#32
  | 24 => 0xBF739D06#32
  | 25 => 0xBF917956#32
  | 26 => 0x3E2A438E#32
  | 27 => 0x3F03ADF6#32
  | 28 => 0x3D6F1A0A#32
  | 29 => 0x403733BF#32
  | 30 => 0xBD416B49#32
  | 31 => 0xBF02C8DB#32
  | 32 => 0x3F46466F#32
  | 33 => 0x3DA88BAA#32
  | 34 => 0x3FB53E6A#32
  | 35 => 0xBEC62921#32
  | 36 => 0x3FACBA71#32
  | 37 => 0x3F42FB31#32
  | 38 => 0x4054BF25#32
  | 39 => 0x400239AF#32
  | 40 => 0xBF6A23C3#32
  | 41 => 0xBF85E0F4#32
  | 42 => 0xBECB102F#32
  | 43 => 0xBEE8B60C#32
  | 44 => 0xBF236131#32
  | 45 => 0xBFA60A90#32
  | 46 => 0xBE7B7B58#32
  | 47 => 0x402A625D#32
  | 48 => 0x3FFD9AA5#32
  | 49 => 0xBF42E12B#32
  | 50 => 0xBEC58DAA#32
  | 51 => 0x3D235D66#32
  | 52 => 0xBE4953A3#32
  | 53 => 0x407BE2AF#32
  | 54 => 0xBFFE53BC#32
  | 55 => 0x3F82745C#32
  | 56 => 0xBE844B9B#32
  | 57 => 0xBF97E0A4#32
  | 58 => 0x3E5BB762#32
  | 59 => 0x3F613A03#32
  | 60 => 0xBEBB76B9#32
  | 61 => 0x3E159FF4#32
  | 62 => 0x3FA7C768#32
  | 63 => 0x3FE9B768#32
  | 64 => 0x3F50CAE6#32
  | 65 => 0x3F5D919A#32
  | 66 => 0xBF03942F#32
  | 67 => 0x3F532BC4#32
  | 68 => 0xBEB95003#32
  | 69 => 0xBF8C14D6#32
  | 70 => 0x3F231700#32
  | 71 => 0x3F0E0E3B#32
  | 72 => 0x3E67BD69#32
  | 73 => 0x3F4A213B#32
  | 74 => 0xBF3BDB9F#32
  | 75 => 0x40885774#32
  | 76 => 0xBF776BA0#32
  | 77 => 0xBF25D2FB#32
  | 78 => 0xBF769222#32
  | 79 => 0x402A9FA9#32
  | 80 => 0x3FDAFC86#32
  | 81 => 0xBE8D5C98#32
  | 82 => 0xBE38883B#32
  | 83 => 0x4065DE87#32
  | 84 => 0xBF9266E9#32
  | 85 => 0x3E23E54C#32
  | 86 => 0x3EC8E657#32
  | 87 => 0x3F32C130#32
  | 88 => 0x40182A19#32
  | 89 => 0x3FDD5083#32
  | 90 => 0x3F1C1E78#32
  | 91 => 0x3E215FEE#32
  | 92 => 0x3F3748B6#32
  | 93 => 0xBE766ED4#32
  | 94 => 0x3E487C79#32
  | 95 => 0xBEC6370F#32
  | 96 => 0xBF2D27DB#32
  | 97 => 0x3E95CF00#32
  | 98 => 0x3F957338#32
  | 99 => 0x3F0DAD52#32
  | 100 => 0xBF95631A#32
  | 101 => 0x3F8B4495#32
  | 102 => 0xBF538851#32
  | 103 => 0xBFD7199B#32
  | 104 => 0x3F3C3418#32
  | 105 => 0xBDBD1CDB#32
  | 106 => 0x3E6381B4#32
  | 107 => 0x40647EC2#32
  | 108 => 0xBF2371C6#32
  | 109 => 0x3F930663#32
  | 110 => 0xBF27ACB8#32
  | 111 => 0x40127829#32
  | 112 => 0x4032048B#32
  | 113 => 0x3F3EC728#32
  | 114 => 0x3F8A85F7#32
  | 115 => 0x3F83AF5A#32
  | 116 => 0x3FBB2A3B#32
  | 117 => 0x3FA70692#32
  | 118 => 0xBE143F76#32
  | 119 => 0xBE55B5AF#32
  | 120 => 0x3EBB2F7F#32
  | 121 => 0x3C277B65#32
  | 122 => 0x3F760328#32
  | 123 => 0xBD71FC9F#32
  | 124 => 0xBF3587CB#32
  | 125 => 0xBEE5AE96#32
  | 126 => 0x3DC7050F#32
  | 127 => 0xBE696215#32
  | _ => 0#32

noncomputable abbrev lit0t0_590 (i : Nat) : BitVec 32 := match i % 128 with
  | 0 => 0x3E8EABB7#32
  | 1 => 0xBF808B12#32
  | 2 => 0x3F6907C8#32
  | 3 => 0xBD778D82#32
  | 4 => 0xBE970571#32
  | 5 => 0x3EFBBA8A#32
  | 6 => 0x3F1F172A#32
  | 7 => 0xBF06B8A5#32
  | 8 => 0x40282ECB#32
  | 9 => 0xBF4C1003#32
  | 10 => 0x3F859675#32
  | 11 => 0x40950449#32
  | 12 => 0x3F40DD33#32
  | 13 => 0x40513B01#32
  | 14 => 0x3FD8EF74#32
  | 15 => 0xBF05FE31#32
  | 16 => 0x3E3BFE63#32
  | 17 => 0x3F84FC6E#32
  | 18 => 0x3EA01995#32
  | 19 => 0x3E69757D#32
  | 20 => 0x3F964B5A#32
  | 21 => 0x3F2090DC#32
  | 22 => 0x3F2F2467#32
  | 23 => 0x3F26BD35#32
  | 24 => 0x3F14E244#32
  | 25 => 0xBDDF2433#32
  | 26 => 0x3F0CA4EE#32
  | 27 => 0x3F68A5AB#32
  | 28 => 0x40BD5034#32
  | 29 => 0xBEC45A32#32
  | 30 => 0xBEB57E75#32
  | 31 => 0xBF44F9DF#32
  | 32 => 0xBD96711C#32
  | 33 => 0xBF3B6F95#32
  | 34 => 0xBF3A788E#32
  | 35 => 0x404878A4#32
  | 36 => 0x402BC7EB#32
  | 37 => 0xBEF7317C#32
  | 38 => 0x3FA9372A#32
  | 39 => 0x3EE15EC4#32
  | 40 => 0x3E191A50#32
  | 41 => 0xBEEC32C0#32
  | 42 => 0x4006DFD2#32
  | 43 => 0xBCDA538D#32
  | 44 => 0x3FA596E1#32
  | 45 => 0x3F65B313#32
  | 46 => 0x3EB653F6#32
  | 47 => 0x3F4201E0#32
  | 48 => 0x3F657878#32
  | 49 => 0xBEB8BF21#32
  | 50 => 0xBED699C4#32
  | 51 => 0x3ECD0B8B#32
  | 52 => 0x3F839CF3#32
  | 53 => 0x3DB03505#32
  | 54 => 0xBF500236#32
  | 55 => 0xBF3CF478#32
  | 56 => 0x3EF47A76#32
  | 57 => 0x3EEBD50A#32
  | 58 => 0x3F831772#32
  | 59 => 0x3E952201#32
  | 60 => 0xBCA70D3C#32
  | 61 => 0xBF5A2407#32
  | 62 => 0xBE95A771#32
  | 63 => 0x3F804F8F#32
  | 64 => 0x3F5AFCD0#32
  | 65 => 0x3F3C0911#32
  | 66 => 0x4000154A#32
  | 67 => 0xBE17A08D#32
  | 68 => 0xBE50134C#32
  | 69 => 0x4040B9A2#32
  | 70 => 0xBE52AFDD#32
  | 71 => 0xBEF28CFE#32
  | 72 => 0x3E43534B#32
  | 73 => 0x3FA18F16#32
  | 74 => 0xBE8D37CA#32
  | 75 => 0xBE657933#32
  | 76 => 0x3EB871DB#32
  | 77 => 0x4034E8A2#32
  | 78 => 0x3ECD16CF#32
  | 79 => 0x4015217A#32
  | 80 => 0xBD5D3717#32
  | 81 => 0xBE737228#32
  | 82 => 0xBDAA4EE3#32
  | 83 => 0x4053EA9B#32
  | 84 => 0x3F6EAAF7#32
  | 85 => 0x4037BD7E#32
  | 86 => 0xBF377D9F#32
  | 87 => 0x40BE8720#32
  | 88 => 0xBF9B9EB6#32
  | 89 => 0x404E483D#32
  | 90 => 0x40A6B514#32
  | 91 => 0xBF822086#32
  | 92 => 0x3FC8AD08#32
  | 93 => 0xBF86F4D4#32
  | 94 => 0x3D853B71#32
  | 95 => 0x3D875F25#32
  | 96 => 0x3D98AA87#32
  | 97 => 0x3D5FF931#32
  | 98 => 0x3F38395F#32
  | 99 => 0x3E5C8439#32
  | 100 => 0x3EE4776E#32
  | 101 => 0x3FB63546#32
  | 102 => 0xBF3A25BF#32
  | 103 => 0x3EA8179C#32
  | 104 => 0x3E7D9992#32
  | 105 => 0x3FE3A7DA#32
  | 106 => 0x3E825D78#32
  | 107 => 0x3FF8B379#32
  | 108 => 0x4080811C#32
  | 109 => 0x3C0DADDF#32
  | 110 => 0xBF5D08EE#32
  | 111 => 0x3FE4C9AB#32
  | 112 => 0x3EAD7EE6#32
  | 113 => 0x3F597AF6#32
  | 114 => 0x400ECE39#32
  | 115 => 0xBF5DBDE1#32
  | 116 => 0x3E9363E6#32
  | 117 => 0x4012C530#32
  | 118 => 0xBECD5166#32
  | 119 => 0xBD0DCDEC#32
  | 120 => 0xBEAEDBEB#32
  | 121 => 0x3F0DFD56#32
  | 122 => 0xBDB0F121#32
  | 123 => 0xBF12EF01#32
  | 124 => 0x404AEFF1#32
  | 125 => 0xBF89377D#32
  | 126 => 0x3F8FCD43#32
  | 127 => 0xBF0A9096#32
  | _ => 0#32

noncomputable abbrev lit0t0_591 (i : Nat) : BitVec 32 := match i % 128 with
  | 0 => 0x407E15C3#32
  | 1 => 0x3FBF3F89#32
  | 2 => 0x40320E24#32
  | 3 => 0x3EAA509A#32
  | 4 => 0x3F7531EC#32
  | 5 => 0xBF8084A5#32
  | 6 => 0x403DE6A0#32
  | 7 => 0x3F91D760#32
  | 8 => 0x3F87024C#32
  | 9 => 0x3F3F0247#32
  | 10 => 0xBECF2653#32
  | 11 => 0x40037448#32
  | 12 => 0x40000B51#32
  | 13 => 0x404D2441#32
  | 14 => 0x3F0F73CC#32
  | 15 => 0xBE956169#32
  | 16 => 0x4091A2B4#32
  | 17 => 0xBE22348E#32
  | 18 => 0xBF67ED29#32
  | 19 => 0x3F211182#32
  | 20 => 0x3D6B2EB9#32
  | 21 => 0x3F3EF194#32
  | 22 => 0x3E6FBFF0#32
  | 23 => 0x3FAFD8F0#32
  | 24 => 0xBF107BB7#32
  | 25 => 0x402C61D5#32
  | 26 => 0xBF6E6E21#32
  | 27 => 0x3DA0944D#32
  | 28 => 0x3FD80FEA#32
  | 29 => 0xBDC1FE3C#32
  | 30 => 0x3F953610#32
  | 31 => 0xBF54DEC1#32
  | 32 => 0x400587FC#32
  | 33 => 0x4093A6E0#32
  | 34 => 0xBF3A7A80#32
  | 35 => 0xBE54AA10#32
  | 36 => 0x3E508AEC#32
  | 37 => 0x3F56852D#32
  | 38 => 0xBF37BF7C#32
  | 39 => 0x400BDD17#32
  | 40 => 0x3F132190#32
  | 41 => 0xBE815D9E#32
  | 42 => 0x403EA2A8#32
  | 43 => 0xBEC9C876#32
  | 44 => 0x3F190A41#32
  | 45 => 0x3F03084E#32
  | 46 => 0x3FB7EDAF#32
  | 47 => 0xBF5BE78F#32
  | 48 => 0x3DA96A76#32
  | 49 => 0x3F31BEBB#32
  | 50 => 0xBECAD03A#32
  | 51 => 0x3F7E6E06#32
  | 52 => 0x3F5B4102#32
  | 53 => 0xBF153CE2#32
  | 54 => 0xBF3A9FAA#32
  | 55 => 0x4019453C#32
  | 56 => 0x3E979E35#32
  | 57 => 0x3E030B75#32
  | 58 => 0x40004528#32
  | 59 => 0x40927E84#32
  | 60 => 0x3E75192C#32
  | 61 => 0x3EAB04BB#32
  | 62 => 0x40322275#32
  | 63 => 0x3ECF87BB#32
  | 64 => 0xBE9EBA28#32
  | 65 => 0x3FB0B6B7#32
  | 66 => 0xBEC27C27#32
  | 67 => 0xBDEB3D55#32
  | 68 => 0x3F629697#32
  | 69 => 0xBFC91D7C#32
  | 70 => 0xBFB9043E#32
  | 71 => 0x3ED8E50D#32
  | 72 => 0x3EADF85B#32
  | 73 => 0x3F2718C7#32
  | 74 => 0xBF3A9B2C#32
  | 75 => 0xBE99BDDB#32
  | 76 => 0x3E10A346#32
  | 77 => 0xBE967272#32
  | 78 => 0x3FC3D33C#32
  | 79 => 0xBF7C41B0#32
  | 80 => 0xBE060A46#32
  | 81 => 0xBFB654F6#32
  | 82 => 0x3FB0C273#32
  | 83 => 0xBF3D604B#32
  | 84 => 0xBE6AEC6C#32
  | 85 => 0xBF381638#32
  | 86 => 0x3FF2077D#32
  | 87 => 0x3E11D309#32
  | 88 => 0xBDACF93C#32
  | 89 => 0x4001F077#32
  | 90 => 0xBF1D499B#32
  | 91 => 0xBF135552#32
  | 92 => 0x3FC1C6BD#32
  | 93 => 0xBE38263E#32
  | 94 => 0x3FF3106C#32
  | 95 => 0x3F953368#32
  | 96 => 0xBF83A491#32
  | 97 => 0x3F77AC08#32
  | 98 => 0xBEFBBC24#32
  | 99 => 0x403D9C9A#32
  | 100 => 0xBFC52258#32
  | 101 => 0xBF9E976B#32
  | 102 => 0x4030FC77#32
  | 103 => 0x3F29DD6B#32
  | 104 => 0x3F792108#32
  | 105 => 0x3E500AED#32
  | 106 => 0x4052E3AC#32
  | 107 => 0xBF6B7064#32
  | 108 => 0xBF00C62F#32
  | 109 => 0xBE621BD4#32
  | 110 => 0x3D2ADE0F#32
  | 111 => 0xBF47E8C6#32
  | 112 => 0x3EEB58AA#32
  | 113 => 0xBEC54740#32
  | 114 => 0xBC2DCE2A#32
  | 115 => 0xBEC8EC5B#32
  | 116 => 0x3F370AEA#32
  | 117 => 0xBE87C71D#32
  | 118 => 0xBF14CECB#32
  | 119 => 0x3F285D0C#32
  | 120 => 0xBECA1D92#32
  | 121 => 0x3E117BD0#32
  | 122 => 0x4024073E#32
  | 123 => 0x3FDB9E87#32
  | 124 => 0x3E4AC0AB#32
  | 125 => 0x3F01E0EB#32
  | 126 => 0x3DD79BA0#32
  | 127 => 0x3D3BD1DA#32
  | _ => 0#32

noncomputable abbrev lit0t0_592 (i : Nat) : BitVec 32 := match i % 128 with
  | 0 => 0x3EAE0EDA#32
  | 1 => 0xBE0F9BE4#32
  | 2 => 0x4036D04C#32
  | 3 => 0x3F33FA06#32
  | 4 => 0x3F730D8B#32
  | 5 => 0xBF327EF3#32
  | 6 => 0x3BABD523#32
  | 7 => 0x40CFC1F8#32
  | 8 => 0x3F695F7F#32
  | 9 => 0x40A312A7#32
  | 10 => 0x3E485F53#32
  | 11 => 0x3FBF170F#32
  | 12 => 0xBEE823F4#32
  | 13 => 0x3E8EDD92#32
  | 14 => 0x3FBE6F7E#32
  | 15 => 0xBF2D4014#32
  | 16 => 0x3F3821D2#32
  | 17 => 0xBFA434B4#32
  | 18 => 0xBC68C8A5#32
  | 19 => 0x3E694DFC#32
  | 20 => 0x3FD21513#32
  | 21 => 0x3E58F130#32
  | 22 => 0x3FA4B1D6#32
  | 23 => 0xBF869691#32
  | 24 => 0x3F603760#32
  | 25 => 0xBF814C6C#32
  | 26 => 0x3F4D1ED9#32
  | 27 => 0xBF8EF233#32
  | 28 => 0x401C0808#32
  | 29 => 0xBF8E4EC6#32
  | 30 => 0x3F3A70E3#32
  | 31 => 0xBEC67918#32
  | 32 => 0xBD07E1F0#32
  | 33 => 0x3C9C466E#32
  | 34 => 0xBEE8E10B#32
  | 35 => 0xBFC1A096#32
  | 36 => 0x408A519F#32
  | 37 => 0x3EFA8946#32
  | 38 => 0x3EED8A07#32
  | 39 => 0x3FD47058#32
  | 40 => 0x3F66736C#32
  | 41 => 0x3FA504FB#32
  | 42 => 0x3DEB0740#32
  | 43 => 0x3FE3962A#32
  | 44 => 0xBE840005#32
  | 45 => 0x3EA6B781#32
  | 46 => 0x3EC20B10#32
  | 47 => 0xBEC95C4F#32
  | 48 => 0xBCD57748#32
  | 49 => 0x40152835#32
  | 50 => 0xBEF4845A#32
  | 51 => 0x3F566751#32
  | 52 => 0x3DA4CAB7#32
  | 53 => 0x3F941713#32
  | 54 => 0x3EC961D0#32
  | 55 => 0x3F5E055F#32
  | 56 => 0x402A3ADB#32
  | 57 => 0x4098AE82#32
  | 58 => 0x3E0A49C1#32
  | 59 => 0x3FCA1AE8#32
  | 60 => 0x3E87A1B0#32
  | 61 => 0xBFAA17EF#32
  | 62 => 0xBF7A9ABF#32
  | 63 => 0x3DACBEA2#32
  | 64 => 0x3FF54FA3#32
  | 65 => 0xBE90521C#32
  | 66 => 0x3E352D98#32
  | 67 => 0xBEA6F280#32
  | 68 => 0xBFC824BE#32
  | 69 => 0x3EC0A7C8#32
  | 70 => 0xBFECF321#32
  | 71 => 0x3F7CF872#32
  | 72 => 0xBEB1311C#32
  | 73 => 0xBFB5FA46#32
  | 74 => 0xBF290863#32
  | 75 => 0x3F165D04#32
  | 76 => 0x3EDB4735#32
  | 77 => 0x3F85B1FE#32
  | 78 => 0x3FB562A9#32
  | 79 => 0x3F51FFAE#32
  | 80 => 0xBE6F70C0#32
  | 81 => 0xBEE85D4A#32
  | 82 => 0x3EE3F7C2#32
  | 83 => 0xBF933409#32
  | 84 => 0x3F178961#32
  | 85 => 0x40123A7F#32
  | 86 => 0xBF604AD0#32
  | 87 => 0x3F5EF9BE#32
  | 88 => 0x3E96C532#32
  | 89 => 0xBF8F78BA#32
  | 90 => 0x3EE7C120#32
  | 91 => 0x4032BC06#32
  | 92 => 0xBF555B90#32
  | 93 => 0x3ED024C1#32
  | 94 => 0xBF7BD6DB#32
  | 95 => 0x40337453#32
  | 96 => 0x3FC62A0C#32
  | 97 => 0x3F98C19F#32
  | 98 => 0x403E6698#32
  | 99 => 0x3DA87A98#32
  | 100 => 0x40529D0D#32
  | 101 => 0x401719C0#32
  | 102 => 0x3F20FB79#32
  | 103 => 0x3F1C8193#32
  | 104 => 0xBF7CD586#32
  | 105 => 0x3E9F3754#32
  | 106 => 0xBE5EA9FE#32
  | 107 => 0x3FDEA743#32
  | 108 => 0x3FA06C2D#32
  | 109 => 0xBDE42952#32
  | 110 => 0x3F30238D#32
  | 111 => 0x3FB1850C#32
  | 112 => 0x402FA922#32
  | 113 => 0x3EA13021#32
  | 114 => 0x3F622869#32
  | 115 => 0x3F893518#32
  | 116 => 0x3E7F9FB2#32
  | 117 => 0xBFA0ECC9#32
  | 118 => 0x3F9AB8F0#32
  | 119 => 0x3F037BA5#32
  | 120 => 0x3DBAD2F2#32
  | 121 => 0xBF03351F#32
  | 122 => 0x40773479#32
  | 123 => 0xBE666041#32
  | 124 => 0xBEA93119#32
  | 125 => 0x3EF38AA4#32
  | 126 => 0x3F091DDA#32
  | 127 => 0x4001F521#32
  | _ => 0#32

noncomputable abbrev lit0t0_593 (i : Nat) : BitVec 32 := match i % 128 with
  | 0 => 0x3EF7F2E0#32
  | 1 => 0x3F8EA4D4#32
  | 2 => 0x3EB5E2FD#32
  | 3 => 0x401768F2#32
  | 4 => 0x40951B0D#32
  | 5 => 0x3F8CD23F#32
  | 6 => 0x3F2587E4#32
  | 7 => 0x4045C989#32
  | 8 => 0x408CDB66#32
  | 9 => 0x3FEAE90B#32
  | 10 => 0x3EC4A80A#32
  | 11 => 0xBE875CC0#32
  | 12 => 0x3EF74658#32
  | 13 => 0xBEF1E239#32
  | 14 => 0x3FC9175A#32
  | 15 => 0xBC1F9369#32
  | 16 => 0x3F031145#32
  | 17 => 0x3FB94EFF#32
  | 18 => 0xBEDE4094#32
  | 19 => 0x3ED71A0F#32
  | 20 => 0x3E2A1ECD#32
  | 21 => 0x3F452797#32
  | 22 => 0x3F8034D9#32
  | 23 => 0x3EC82993#32
  | 24 => 0x3FC05319#32
  | 25 => 0x3F7D4924#32
  | 26 => 0xBF10F354#32
  | 27 => 0x3FFB1628#32
  | 28 => 0x3E2F1A95#32
  | 29 => 0x3FB81AB7#32
  | 30 => 0xBE20EE86#32
  | 31 => 0x3E0AF7CA#32
  | 32 => 0x3E502A44#32
  | 33 => 0x3DAC7F65#32
  | 34 => 0x3F38C993#32
  | 35 => 0xBF130902#32
  | 36 => 0x403D33A9#32
  | 37 => 0x4027A4EC#32
  | 38 => 0x3F45684E#32
  | 39 => 0xBFCE3DC3#32
  | 40 => 0xBF74B55E#32
  | 41 => 0x3F348EA2#32
  | 42 => 0xBF1DF5DD#32
  | 43 => 0x3F8F46CD#32
  | 44 => 0x3CE34460#32
  | 45 => 0x3FEF88EF#32
  | 46 => 0x401FDADB#32
  | 47 => 0x3FCB9AF8#32
  | 48 => 0xBF031DFF#32
  | 49 => 0x3FAD9C67#32
  | 50 => 0xBF9F64C7#32
  | 51 => 0xBEF67762#32
  | 52 => 0x3F02432E#32
  | 53 => 0x3D770755#32
  | 54 => 0xBECBC25B#32
  | 55 => 0xBF27309A#32
  | 56 => 0x40378E6A#32
  | 57 => 0x3FCA8B84#32
  | 58 => 0x402FA536#32
  | 59 => 0xBED2B6B4#32
  | 60 => 0x3FB42D8A#32
  | 61 => 0xBF91E4D1#32
  | 62 => 0x3EB1D1EC#32
  | 63 => 0x3E33DB11#32
  | 64 => 0xBF75A0F4#32
  | 65 => 0x3EA58880#32
  | 66 => 0x3F84B272#32
  | 67 => 0x3EA53D9F#32
  | 68 => 0xBF8EB129#32
  | 69 => 0xBF1D7E94#32
  | 70 => 0x3E7BA73F#32
  | 71 => 0x401EA4C0#32
  | 72 => 0xBF50D2CA#32
  | 73 => 0x3FF9120A#32
  | 74 => 0x3FC108C7#32
  | 75 => 0x40273562#32
  | 76 => 0x3F6E63E1#32
  | 77 => 0x400D1F04#32
  | 78 => 0x3FC5F5A8#32
  | 79 => 0x3F3BD0CD#32
  | 80 => 0x40890A5C#32
  | 81 => 0x3FD2E889#32
  | 82 => 0x3F69D41B#32
  | 83 => 0xBF67EDB8#32
  | 84 => 0x3D5D08EA#32
  | 85 => 0xBFFD24DD#32
  | 86 => 0xBFCD839D#32
  | 87 => 0xBF396BCD#32
  | 88 => 0xBF5C38B1#32
  | 89 => 0x3E85DF25#32
  | 90 => 0x3E0A0368#32
  | 91 => 0xBF049449#32
  | 92 => 0x4082DB98#32
  | 93 => 0x3D83A775#32
  | 94 => 0x3F9C606E#32
  | 95 => 0xBF78767C#32
  | 96 => 0xBEA535E7#32
  | 97 => 0x3F381BF2#32
  | 98 => 0x3F697C17#32
  | 99 => 0xBFC8B11D#32
  | 100 => 0x3F403C41#32
  | 101 => 0xBCB769AE#32
  | 102 => 0x3F765B8C#32
  | 103 => 0xBFABA5BB#32
  | 104 => 0xBF810F70#32
  | 105 => 0x3F2E5DA5#32
  | 106 => 0xBF38FE7B#32
  | 107 => 0x3C04E71F#32
  | 108 => 0x3FB06393#32
  | 109 => 0x4035E679#32
  | 110 => 0xBE97B9D9#32
  | 111 => 0x40046BD8#32
  | 112 => 0x3F9DE4D2#32
  | 113 => 0x3F84E3D0#32
  | 114 => 0x3ECE3110#32
  | 115 => 0x3EFC888C#32
  | 116 => 0x3DFE65AF#32
  | 117 => 0xBCDED457#32
  | 118 => 0x3E921206#32
  | 119 => 0x3FD20DD4#32
  | 120 => 0x3F38818E#32
  | 121 => 0x3E916517#32
  | 122 => 0xBF6FD525#32
  | 123 => 0x3E23254D#32
  | 124 => 0x3F986EED#32
  | 125 => 0x3EFA6D3D#32
  | 126 => 0xBDA98561#32
  | 127 => 0xBE384B3C#32
  | _ => 0#32

noncomputable abbrev lit0t0_594 (i : Nat) : BitVec 32 := match i % 128 with
  | 0 => 0xBD01EA32#32
  | 1 => 0xBEB35AEB#32
  | 2 => 0x3E6BAF6C#32
  | 3 => 0x3FEFCCB8#32
  | 4 => 0x3E93C454#32
  | 5 => 0xBE61DA72#32
  | 6 => 0xBF825C8B#32
  | 7 => 0x40069237#32
  | 8 => 0xBE2CABBB#32
  | 9 => 0xBF609308#32
  | 10 => 0xBE6F2D32#32
  | 11 => 0x3E9A7801#32
  | 12 => 0xBEAA8489#32
  | 13 => 0x3DC4C174#32
  | 14 => 0x3EFF919B#32
  | 15 => 0xBF0BD05D#32
  | 16 => 0xBEF60032#32
  | 17 => 0xBC5C70A7#32
  | 18 => 0x3E1AAB63#32
  | 19 => 0xBF3AA824#32
  | 20 => 0x400B3CB9#32
  | 21 => 0x3FBA6B0F#32
  | 22 => 0x3F6088A6#32
  | 23 => 0x3F76093C#32
  | 24 => 0xBDBCE6B7#32
  | 25 => 0x3F306D85#32
  | 26 => 0xBCB1BFBE#32
  | 27 => 0x3D4EBD38#32
  | 28 => 0x3FA545DC#32
  | 29 => 0x3F5D83BD#32
  | 30 => 0x3F509984#32
  | 31 => 0x400C6844#32
  | 32 => 0xBF058531#32
  | 33 => 0xBF79A8A2#32
  | 34 => 0x3E54B448#32
  | 35 => 0x3F2A282F#32
  | 36 => 0x3F5452AD#32
  | 37 => 0x4056BB4E#32
  | 38 => 0x406FBB8F#32
  | 39 => 0xBECDE3B5#32
  | 40 => 0x3DCBA67C#32
  | 41 => 0xBE380614#32
  | 42 => 0xBEB0FE68#32
  | 43 => 0x3FB6B172#32
  | 44 => 0xBE79263A#32
  | 45 => 0x3F446669#32
  | 46 => 0x3D6C1728#32
  | 47 => 0xBF12D4B9#32
  | 48 => 0xBE3CFBBF#32
  | 49 => 0xBE3807A5#32
  | 50 => 0x3F55DD8A#32
  | 51 => 0x3F78A40E#32
  | 52 => 0x3F3ED44F#32
  | 53 => 0x3FDFFC94#32
  | 54 => 0x3FF7BFA6#32
  | 55 => 0x3FD223D5#32
  | 56 => 0xBFBA9BB6#32
  | 57 => 0x3F85C8BD#32
  | 58 => 0x3F278BC6#32
  | 59 => 0x3E27FCFC#32
  | 60 => 0x3FF1A514#32
  | 61 => 0x4000A59A#32
  | 62 => 0x400E46A0#32
  | 63 => 0xBE44B31E#32
  | 64 => 0xBDEF5E21#32
  | 65 => 0x404BB71F#32
  | 66 => 0x40018D05#32
  | 67 => 0xBF3566E4#32
  | 68 => 0x3E51D7CE#32
  | 69 => 0x3CC2469A#32
  | 70 => 0x3F87F4EE#32
  | 71 => 0xBF6DC802#32
  | 72 => 0xBDD96574#32
  | 73 => 0xBF8C445D#32
  | 74 => 0x3E868D98#32
  | 75 => 0xBE524EA5#32
  | 76 => 0xBF11764E#32
  | 77 => 0x3FEA999D#32
  | 78 => 0xBEC49575#32
  | 79 => 0x3F8DAA80#32
  | 80 => 0x3F1F221E#32
  | 81 => 0x3FA0E421#32
  | 82 => 0xBF6BE04E#32
  | 83 => 0x4017EF74#32
  | 84 => 0xC00B80DE#32
  | 85 => 0x3FBA92E0#32
  | 86 => 0x4006151B#32
  | 87 => 0xBF37E198#32
  | 88 => 0xBC9FC8F8#32
  | 89 => 0x3FB8F568#32
  | 90 => 0x3DEE191A#32
  | 91 => 0xBC9F1D96#32
  | 92 => 0x3EF9A5AC#32
  | 93 => 0xBF681E3A#32
  | 94 => 0xBFBAE9A0#32
  | 95 => 0x3F3F190C#32
  | 96 => 0xBE825551#32
  | 97 => 0x3F8AD561#32
  | 98 => 0x40372D73#32
  | 99 => 0xBED9D640#32
  | 100 => 0x4028266C#32
  | 101 => 0x4040E7F5#32
  | 102 => 0x3F4CDFE1#32
  | 103 => 0x3E21971F#32
  | 104 => 0x3F23E23A#32
  | 105 => 0xBE0E79D0#32
  | 106 => 0xBF0C45D4#32
  | 107 => 0xBF67AB60#32
  | 108 => 0x3E88BDF1#32
  | 109 => 0xBE31F21B#32
  | 110 => 0xBF232B7A#32
  | 111 => 0xBD907C62#32
  | 112 => 0x3FDBE7CA#32
  | 113 => 0x3EA35624#32
  | 114 => 0x3F7FC13A#32
  | 115 => 0x401712FE#32
  | 116 => 0x3F116AEE#32
  | 117 => 0x3E1081BB#32
  | 118 => 0xBF82E33E#32
  | 119 => 0x40180F5E#32
  | 120 => 0xBEB15F76#32
  | 121 => 0xBE8783EF#32
  | 122 => 0x3FCF1947#32
  | 123 => 0x3F8649A4#32
  | 124 => 0xBEDECEFA#32
  | 125 => 0x403CF096#32
  | 126 => 0xBF85576C#32
  | 127 => 0x402CBBB0#32
  | _ => 0#32

noncomputable abbrev lit0t0_595 (i : Nat) : BitVec 32 := match i % 128 with
  | 0 => 0xBFB01458#32
  | 1 => 0xBE20F1E4#32
  | 2 => 0xBD7D3CE2#32
  | 3 => 0x3EE4A8A8#32
  | 4 => 0x3FB084DD#32
  | 5 => 0xBCE75B3B#32
  | 6 => 0x3EC2DDC0#32
  | 7 => 0xBF1B464F#32
  | 8 => 0xBD1BF0B8#32
  | 9 => 0xBDFEB835#32
  | 10 => 0x3E3A9818#32
  | 11 => 0x3FD434C0#32
  | 12 => 0xBD863F81#32
  | 13 => 0x3FA535B3#32
  | 14 => 0x402CBD55#32
  | 15 => 0x3F9EB4D2#32
  | 16 => 0xBE3641B4#32
  | 17 => 0x3FB1AC72#32
  | 18 => 0x3F3B50DF#32
  | 19 => 0x3FA7DCE3#32
  | 20 => 0xBECD39E0#32
  | 21 => 0xBF77BF78#32
  | 22 => 0x3F3A3EAC#32
  | 23 => 0x402ADD60#32
  | 24 => 0x40B51169#32
  | 25 => 0xBF675149#32
  | 26 => 0xBF5C5720#32
  | 27 => 0x3FD2740C#32
  | 28 => 0xBE49493E#32
  | 29 => 0xBF9D5539#32
  | 30 => 0x3F253795#32
  | 31 => 0x3F691620#32
  | 32 => 0xBE85A707#32
  | 33 => 0x3FC00F3A#32
  | 34 => 0x404B32CF#32
  | 35 => 0x4022BFA7#32
  | 36 => 0xBF1101A2#32
  | 37 => 0x3DF3D97B#32
  | 38 => 0x3F83E07E#32
  | 39 => 0x4020ED62#32
  | 40 => 0x3F9BBA3D#32
  | 41 => 0x401ECDA8#32
  | 42 => 0x40284080#32
  | 43 => 0xBCD84C04#32
  | 44 => 0xBFA1DDFE#32
  | 45 => 0x3FACA1D1#32
  | 46 => 0xBFBED76D#32
  | 47 => 0xBE25584E#32
  | 48 => 0xBE4B9238#32
  | 49 => 0x40032BA9#32
  | 50 => 0xBF5B1890#32
  | 51 => 0x3F79FCFF#32
  | 52 => 0x3E8ECB70#32
  | 53 => 0xBED8C9DF#32
  | 54 => 0x405BDC3E#32
  | 55 => 0x408B01DF#32
  | 56 => 0x40109C15#32
  | 57 => 0x4014F077#32
  | 58 => 0x3FA4FC14#32
  | 59 => 0xBF6213E6#32
  | 60 => 0x3F5BC6AE#32
  | 61 => 0xBED0FDD3#32
  | 62 => 0xBF8266A4#32
  | 63 => 0x3F59AD43#32
  | 64 => 0x3FD8710E#32
  | 65 => 0xBDB5FD4A#32
  | 66 => 0xBF29A6E0#32
  | 67 => 0xBEE0516D#32
  | 68 => 0xBF1694DA#32
  | 69 => 0xBF19FA72#32
  | 70 => 0x3FC4836A#32
  | 71 => 0xBE11DB72#32
  | 72 => 0xBE943F4E#32
  | 73 => 0xBF2298B8#32
  | 74 => 0x3F8A0691#32
  | 75 => 0x400175A1#32
  | 76 => 0xBF930313#32
  | 77 => 0x3FE6BE64#32
  | 78 => 0xBF7B5FFB#32
  | 79 => 0x404242F3#32
  | 80 => 0x3FA66CA7#32
  | 81 => 0xBF363D0D#32
  | 82 => 0x3E744416#32
  | 83 => 0x3F39C97E#32
  | 84 => 0xBE3A7D2D#32
  | 85 => 0xBF29CCC6#32
  | 86 => 0x3F7378CC#32
  | 87 => 0x3D8D256D#32
  | 88 => 0x40384292#32
  | 89 => 0x3F804979#32
  | 90 => 0x3FBD461E#32
  | 91 => 0x3FC63668#32
  | 92 => 0x407B7670#32
  | 93 => 0x3E686952#32
  | 94 => 0xBFE91CB0#32
  | 95 => 0x3E638EBC#32
  | 96 => 0xBE4506F8#32
  | 97 => 0xBF2BC06F#32
  | 98 => 0x400494FB#32
  | 99 => 0x3ED89D3C#32
  | 100 => 0xBE945B03#32
  | 101 => 0x3E4EEBC6#32
  | 102 => 0x3F3F3F8D#32
  | 103 => 0x40B72151#32
  | 104 => 0x4046D077#32
  | 105 => 0x3E86338D#32
  | 106 => 0x3F0F68CE#32
  | 107 => 0x400055A1#32
  | 108 => 0xBF0F4159#32
  | 109 => 0x3FA60EFE#32
  | 110 => 0xBF889EB6#32
  | 111 => 0xBF197BDF#32
  | 112 => 0xBF688904#32
  | 113 => 0xBF8FC218#32
  | 114 => 0x3FB4A6F5#32
  | 115 => 0xBF60D6E2#32
  | 116 => 0x3F136399#32
  | 117 => 0x3F49F55F#32
  | 118 => 0x40113E38#32
  | 119 => 0xBF5C124D#32
  | 120 => 0x3FD190B8#32
  | 121 => 0xBF6A8F0E#32
  | 122 => 0x4028D47A#32
  | 123 => 0x3DE49416#32
  | 124 => 0xBED7FF41#32
  | 125 => 0x3FA37CAA#32
  | 126 => 0xBF08F2A6#32
  | 127 => 0x3FBC1A8F#32
  | _ => 0#32

noncomputable abbrev lit0t0_596 (i : Nat) : BitVec 32 := match i % 128 with
  | 0 => 0xBF369B26#32
  | 1 => 0x3EBEF0BD#32
  | 2 => 0x3CCD017C#32
  | 3 => 0x3F963C6D#32
  | 4 => 0xBF469C26#32
  | 5 => 0xBF9AAD57#32
  | 6 => 0x3FB5AC47#32
  | 7 => 0x3F8EE9E3#32
  | 8 => 0x3F384504#32
  | 9 => 0x3F96E106#32
  | 10 => 0x3EEFF386#32
  | 11 => 0x3F7FA856#32
  | 12 => 0x3E531FD4#32
  | 13 => 0xBF21B1E5#32
  | 14 => 0x401D90CB#32
  | 15 => 0xBF7B9356#32
  | 16 => 0x3FA9853D#32
  | 17 => 0x403213EA#32
  | 18 => 0x3E66B72B#32
  | 19 => 0x402D2E6D#32
  | 20 => 0xBF658BBC#32
  | 21 => 0x400E93D6#32
  | 22 => 0xBD29A36C#32
  | 23 => 0xBE9E3CFD#32
  | 24 => 0x3F62E546#32
  | 25 => 0xBF68A518#32
  | 26 => 0x3F19C3BB#32
  | 27 => 0xBF7DF83A#32
  | 28 => 0x3F85CFF9#32
  | 29 => 0xBF311698#32
  | 30 => 0x3F0E1C94#32
  | 31 => 0x3F9A52F0#32
  | 32 => 0x3D82D252#32
  | 33 => 0xBFAA66D6#32
  | 34 => 0xBED515EF#32
  | 35 => 0x3F0C3526#32
  | 36 => 0xBE0A6A2C#32
  | 37 => 0x40279B62#32
  | 38 => 0xBEC551D6#32
  | 39 => 0x3DF31130#32
  | 40 => 0xBFAFEC8B#32
  | 41 => 0x404616B2#32
  | 42 => 0xBDDABB94#32
  | 43 => 0x3E04E5BA#32
  | 44 => 0xBF19E265#32
  | 45 => 0xBDD8C5DC#32
  | 46 => 0xBF103B98#32
  | 47 => 0x3E246D27#32
  | 48 => 0xBF6D550A#32
  | 49 => 0x3F41B669#32
  | 50 => 0xBD1BFCE0#32
  | 51 => 0xBFCC9A09#32
  | 52 => 0xBF985B39#32
  | 53 => 0x3EDDB9C8#32
  | 54 => 0x400585A2#32
  | 55 => 0x3F832F85#32
  | 56 => 0xBF2C2C43#32
  | 57 => 0xBF2775B5#32
  | 58 => 0x3F9C8489#32
  | 59 => 0x3F8EDF60#32
  | 60 => 0xBED1AF3E#32
  | 61 => 0xBE1015AD#32
  | 62 => 0xBEC5DFDB#32
  | 63 => 0x401B83F5#32
  | 64 => 0x40373EE7#32
  | 65 => 0x3F95C0B6#32
  | 66 => 0xBF90CD3B#32
  | 67 => 0x3FF54C58#32
  | 68 => 0xBF0CD589#32
  | 69 => 0xBEB7F49C#32
  | 70 => 0xBF55AFA5#32
  | 71 => 0xBFA101FF#32
  | 72 => 0xBE7B58AE#32
  | 73 => 0xBF8C9257#32
  | 74 => 0x3F98BF90#32
  | 75 => 0x3F577790#32
  | 76 => 0x3FAB1CB2#32
  | 77 => 0x3F511BFC#32
  | 78 => 0xBE319658#32
  | 79 => 0x3F402C8B#32
  | 80 => 0x3F066626#32
  | 81 => 0x3FE72568#32
  | 82 => 0xBE16B5B8#32
  | 83 => 0xBDCDEC99#32
  | 84 => 0x3FF09D94#32
  | 85 => 0x3FA572FE#32
  | 86 => 0x3FE01A2B#32
  | 87 => 0x3EE7A016#32
  | 88 => 0x409DAB8F#32
  | 89 => 0x3FB1D86D#32
  | 90 => 0x404CD155#32
  | 91 => 0x3EE9E0F7#32
  | 92 => 0x3FF490E9#32
  | 93 => 0x3EE3473A#32
  | 94 => 0x3F425686#32
  | 95 => 0x3F4A5E89#32
  | 96 => 0x3F068B80#32
  | 97 => 0xBDE8CCDD#32
  | 98 => 0x3FC2D8C7#32
  | 99 => 0xBEC8A565#32
  | 100 => 0x408B6C9D#32
  | 101 => 0xBEDD3EFB#32
  | 102 => 0xBF9987BA#32
  | 103 => 0xBF52B5C3#32
  | 104 => 0x40119A5E#32
  | 105 => 0x400D5CA3#32
  | 106 => 0x3EC5787B#32
  | 107 => 0x3EEDE962#32
  | 108 => 0x3F87235E#32
  | 109 => 0xBF88F051#32
  | 110 => 0xBE4E0326#32
  | 111 => 0x3EED95DE#32
  | 112 => 0xBEF07E7B#32
  | 113 => 0x3F2FBDFC#32
  | 114 => 0xBEE56CDE#32
  | 115 => 0xBF506B42#32
  | 116 => 0xBFE0EC9A#32
  | 117 => 0x3FEFF02D#32
  | 118 => 0xBF37763D#32
  | 119 => 0x3E66FE64#32
  | 120 => 0x3F992C26#32
  | 121 => 0xBF758758#32
  | 122 => 0x3EBEF8C8#32
  | 123 => 0x3E4EB13E#32
  | 124 => 0x3F869820#32
  | 125 => 0x3F66E1C0#32
  | 126 => 0x402611F2#32
  | 127 => 0x3E537ACF#32
  | _ => 0#32

noncomputable abbrev lit0t0_597 (i : Nat) : BitVec 32 := match i % 128 with
  | 0 => 0xBF8B3E84#32
  | 1 => 0xBFA156EA#32
  | 2 => 0x3F22F7D0#32
  | 3 => 0xBFBDA24F#32
  | 4 => 0x4049DAB0#32
  | 5 => 0xBEE74677#32
  | 6 => 0xBF05368E#32
  | 7 => 0x400CF2A5#32
  | 8 => 0xBF8EDB4A#32
  | 9 => 0x3FE8774C#32
  | 10 => 0x400A637B#32
  | 11 => 0x3E80B396#32
  | 12 => 0x3E21727F#32
  | 13 => 0x40AAE6E1#32
  | 14 => 0xBEB99E33#32
  | 15 => 0xBEF35A72#32
  | 16 => 0x3F124D76#32
  | 17 => 0x400D70DF#32
  | 18 => 0x3F952CFD#32
  | 19 => 0x3E39D047#32
  | 20 => 0xBF93E9EF#32
  | 21 => 0x4051B3E0#32
  | 22 => 0x40085F4D#32
  | 23 => 0x3F1D0F3D#32
  | 24 => 0x3F3B1BD0#32
  | 25 => 0x3E0F41F9#32
  | 26 => 0x4092EA13#32
  | 27 => 0x3E25AAC3#32
  | 28 => 0x40AAEF13#32
  | 29 => 0x3FAC9B52#32
  | 30 => 0x408CAD25#32
  | 31 => 0xBEC200D2#32
  | 32 => 0xBEC23548#32
  | 33 => 0xBF4CD628#32
  | 34 => 0x3F3640D7#32
  | 35 => 0xBF33BB85#32
  | 36 => 0xBEAD31F0#32
  | 37 => 0x3E095489#32
  | 38 => 0xBF5D216E#32
  | 39 => 0x3FD0C5A3#32
  | 40 => 0x3FD73DB9#32
  | 41 => 0x3EA717BC#32
  | 42 => 0x3F218D71#32
  | 43 => 0xBEA1C228#32
  | 44 => 0x3F419973#32
  | 45 => 0xBEA49A8C#32
  | 46 => 0x3F772FFC#32
  | 47 => 0x3DABF419#32
  | 48 => 0xBD3D4BC5#32
  | 49 => 0x3DADFD95#32
  | 50 => 0x40012087#32
  | 51 => 0x3F438BD3#32
  | 52 => 0xBF93B1EE#32
  | 53 => 0x4006FC91#32
  | 54 => 0xBE54C2AA#32
  | 55 => 0xBF1066FE#32
  | 56 => 0x3E9FAEBF#32
  | 57 => 0x3F9713FF#32
  | 58 => 0xBCF53A6A#32
  | 59 => 0x3FF01609#32
  | 60 => 0x40B17763#32
  | 61 => 0xBEEAE756#32
  | 62 => 0xBFB3A775#32
  | 63 => 0x409E182F#32
  | 64 => 0x3FD1ABDA#32
  | 65 => 0x3FBEACE7#32
  | 66 => 0x3E90B006#32
  | 67 => 0x403AAE1E#32
  | 68 => 0x3F82F356#32
  | 69 => 0x3EF950FF#32
  | 70 => 0xBD8C1593#32
  | 71 => 0xBBF5CF62#32
  | 72 => 0x3FA776E7#32
  | 73 => 0x3CD0795D#32
  | 74 => 0xBF15E150#32
  | 75 => 0x3F36F455#32
  | 76 => 0x3F07D6E2#32
  | 77 => 0x3F660A3A#32
  | 78 => 0x3FDE37D2#32
  | 79 => 0x3E54F3FC#32
  | 80 => 0x3D629F19#32
  | 81 => 0x3DE7B8D8#32
  | 82 => 0xBD94FACF#32
  | 83 => 0xBF31FDBA#32
  | 84 => 0x402B875C#32
  | 85 => 0xBE828FCD#32
  | 86 => 0x3F635D87#32
  | 87 => 0x3F012598#32
  | 88 => 0x4008D70B#32
  | 89 => 0x3F166990#32
  | 90 => 0x40274FB6#32
  | 91 => 0xBE4668DF#32
  | 92 => 0xBF3B1B1D#32
  | 93 => 0xBED8E6E5#32
  | 94 => 0x3EDBD6EB#32
  | 95 => 0x3FDEF7AE#32
  | 96 => 0xBF26DBDB#32
  | 97 => 0xBDA09B11#32
  | 98 => 0xBF64120C#32
  | 99 => 0x3E9F179B#32
  | 100 => 0xBE5A3B7C#32
  | 101 => 0xBE50B868#32
  | 102 => 0x3EE45E57#32
  | 103 => 0xBF7B957F#32
  | 104 => 0x3F6C26F0#32
  | 105 => 0x3EE5D2E4#32
  | 106 => 0x3FC6526C#32
  | 107 => 0x3F91861E#32
  | 108 => 0x40518C2B#32
  | 109 => 0x4034C5B5#32
  | 110 => 0xBD035019#32
  | 111 => 0x3E58C9BC#32
  | 112 => 0x3FB79399#32
  | 113 => 0x3F2AD920#32
  | 114 => 0x3D606A8B#32
  | 115 => 0xBFA312C0#32
  | 116 => 0x3FADCFFA#32
  | 117 => 0x403F47D0#32
  | 118 => 0xBFB0AE08#32
  | 119 => 0xBEE12E37#32
  | 120 => 0x3ED9F8A9#32
  | 121 => 0x3FB352BE#32
  | 122 => 0x404DC42C#32
  | 123 => 0x3E3FCA6A#32
  | 124 => 0x3E942D28#32
  | 125 => 0xBF88758C#32
  | 126 => 0xBF363914#32
  | 127 => 0xBF16C982#32
  | _ => 0#32

noncomputable abbrev lit0t0_598 (i : Nat) : BitVec 32 := match i % 128 with
  | 0 => 0x3F58D4E0#32
  | 1 => 0x3F90A37A#32
  | 2 => 0xBE97A73F#32
  | 3 => 0xBFB8F8E6#32
  | 4 => 0x3E0B0B83#32
  | 5 => 0x400DB810#32
  | 6 => 0x3E7AD829#32
  | 7 => 0x3E9A94E8#32
  | 8 => 0xBF95BC64#32
  | 9 => 0x3F220C51#32
  | 10 => 0x3FC0D70A#32
  | 11 => 0x3F16D1DA#32
  | 12 => 0xBF2F545A#32
  | 13 => 0x403BAF57#32
  | 14 => 0x3DF010E5#32
  | 15 => 0x3E871462#32
  | 16 => 0xBF1E0715#32
  | 17 => 0x3FF0FE2D#32
  | 18 => 0x3F3F8414#32
  | 19 => 0x3FB1ECEC#32
  | 20 => 0x3E961B92#32
  | 21 => 0x3F73F2AB#32
  | 22 => 0xBE64E59F#32
  | 23 => 0xBF125802#32
  | 24 => 0x400CDE36#32
  | 25 => 0x3E86D84F#32
  | 26 => 0x3F9D10CE#32
  | 27 => 0x40A4DD9C#32
  | 28 => 0x3F8A6184#32
  | 29 => 0x3E52BFA4#32
  | 30 => 0x3E5B3B03#32
  | 31 => 0x4005D7B2#32
  | 32 => 0x4076533C#32
  | 33 => 0x3D82BF1A#32
  | 34 => 0xBF35C04A#32
  | 35 => 0xBF0FE404#32
  | 36 => 0x3F153ACC#32
  | 37 => 0xBECAF7C7#32
  | 38 => 0x3FA786F7#32
  | 39 => 0x3E66BC4C#32
  | 40 => 0x3F2B2BE4#32
  | 41 => 0x3F9EF48E#32
  | 42 => 0xBF5A7F96#32
  | 43 => 0xBF203108#32
  | 44 => 0x3E104413#32
  | 45 => 0xBE687AB0#32
  | 46 => 0x3C063C65#32
  | 47 => 0x3F807E48#32
  | 48 => 0x3F15B8A8#32
  | 49 => 0x3FB2D669#32
  | 50 => 0x3EEBA044#32
  | 51 => 0x4006B95C#32
  | 52 => 0x3ED8CA90#32
  | 53 => 0x3F23D4DE#32
  | 54 => 0xBECE1AF1#32
  | 55 => 0x40173AAE#32
  | 56 => 0xBF991950#32
  | 57 => 0x3F315276#32
  | 58 => 0x40415BC6#32
  | 59 => 0x3E57496F#32
  | 60 => 0xBC1A91C2#32
  | 61 => 0x3F7A0FBF#32
  | 62 => 0x40044F37#32
  | 63 => 0xBDF07816#32
  | 64 => 0x3F0A4276#32
  | 65 => 0x3F3732E7#32
  | 66 => 0x3F0B3952#32
  | 67 => 0xBEDB9EEC#32
  | 68 => 0x3FD9A93E#32
  | 69 => 0x3F5E2FBF#32
  | 70 => 0xBE9A58C5#32
  | 71 => 0xBF97E1BF#32
  | 72 => 0xBE2F9371#32
  | 73 => 0x3EEE055C#32
  | 74 => 0x3E830671#32
  | 75 => 0xBF9FE12C#32
  | 76 => 0xBE9736C8#32
  | 77 => 0x3FDBC2CA#32
  | 78 => 0xBEDDAF56#32
  | 79 => 0x3F9F8F78#32
  | 80 => 0xBF5AC738#32
  | 81 => 0x3FFFBD65#32
  | 82 => 0x3F7D578D#32
  | 83 => 0x3F9B3828#32
  | 84 => 0xBF8370CF#32
  | 85 => 0x3FC6F506#32
  | 86 => 0xBFA5315B#32
  | 87 => 0x3ED8C32A#32
  | 88 => 0xBF76793C#32
  | 89 => 0xBF8E98D4#32
  | 90 => 0xBF9893F4#32
  | 91 => 0x3E6814C0#32
  | 92 => 0xBF9BFD78#32
  | 93 => 0x4047B527#32
  | 94 => 0x4011F3F4#32
  | 95 => 0x3ED2A871#32
  | 96 => 0xBE535A04#32
  | 97 => 0x3F3DC2E4#32
  | 98 => 0x3E9B7A41#32
  | 99 => 0x3F735196#32
  | 100 => 0x3F970F85#32
  | 101 => 0x4082CA4D#32
  | 102 => 0x3F3A2FD6#32
  | 103 => 0xBE69169B#32
  | 104 => 0xBF970B54#32
  | 105 => 0x404FF9CB#32
  | 106 => 0x3F691620#32
  | 107 => 0x40102422#32
  | 108 => 0x3F602CBC#32
  | 109 => 0x3E74B6DA#32
  | 110 => 0x3EEB10F8#32
  | 111 => 0x3E8E70B3#32
  | 112 => 0x3DC80436#32
  | 113 => 0x3F326ADA#32
  | 114 => 0x3F28BCE1#32
  | 115 => 0x3C6C3AE2#32
  | 116 => 0x3E938F0A#32
  | 117 => 0xBF469988#32
  | 118 => 0x40337F0D#32
  | 119 => 0xBF9AB48C#32
  | 120 => 0x3EBDD60C#32
  | 121 => 0xBD81FD57#32
  | 122 => 0x3E833057#32
  | 123 => 0x3FAE5706#32
  | 124 => 0x3EB7D006#32
  | 125 => 0xBF89A756#32
  | 126 => 0x3EF20A2A#32
  | 127 => 0x3E9968A9#32
  | _ => 0#32

noncomputable abbrev lit0t0_599 (i : Nat) : BitVec 32 := match i % 128 with
  | 0 => 0x3E3C8E88#32
  | 1 => 0x40C2C1DA#32
  | 2 => 0x400A19B7#32
  | 3 => 0xBF00E92E#32
  | 4 => 0x400DDD04#32
  | 5 => 0x3E62BEC0#32
  | 6 => 0x3F9A8268#32
  | 7 => 0xBDA0E483#32
  | 8 => 0xBF337DC7#32
  | 9 => 0x4011E2CD#32
  | 10 => 0x3F8F21BF#32
  | 11 => 0x3DD990C2#32
  | 12 => 0xBEFF9186#32
  | 13 => 0x3F67F86F#32
  | 14 => 0xBF1E9D4F#32
  | 15 => 0x3F44C60A#32
  | 16 => 0xBED3209C#32
  | 17 => 0xBF21F46C#32
  | 18 => 0xBE68F1EB#32
  | 19 => 0x4014BD07#32
  | 20 => 0xBDE9430F#32
  | 21 => 0x403E5197#32
  | 22 => 0x3FB0CFC6#32
  | 23 => 0xBF6A0832#32
  | 24 => 0x3D4095F6#32
  | 25 => 0xBE9A0B1A#32
  | 26 => 0x3FF4E912#32
  | 27 => 0xBD5B8D22#32
  | 28 => 0xBF119ED5#32
  | 29 => 0xBDB5EB0C#32
  | 30 => 0x3F63D413#32
  | 31 => 0x4036D8E7#32
  | 32 => 0xBF1B4D74#32
  | 33 => 0x3E1B8CFD#32
  | 34 => 0x3FAE8D70#32
  | 35 => 0x3F2B18E8#32
  | 36 => 0xBF5C553B#32
  | 37 => 0xBE46935A#32
  | 38 => 0xBE8C41D0#32
  | 39 => 0xBF863E46#32
  | 40 => 0x4047B312#32
  | 41 => 0x3EF3C2A1#32
  | 42 => 0xBF137134#32
  | 43 => 0xBF09098A#32
  | 44 => 0x401F644C#32
  | 45 => 0x3ECD5A08#32
  | 46 => 0x3EB39EE0#32
  | 47 => 0x3F7D196C#32
  | 48 => 0xBF8198C0#32
  | 49 => 0xBF3503CE#32
  | 50 => 0xBEC68080#32
  | 51 => 0xBDE61D26#32
  | 52 => 0x3F9583C7#32
  | 53 => 0x40199CA3#32
  | 54 => 0xBECCB17C#32
  | 55 => 0x3FDB9BFB#32
  | 56 => 0x3FEFE8B2#32
  | 57 => 0x3F085DB7#32
  | 58 => 0x3FA7DB3C#32
  | 59 => 0xBE11C0D4#32
  | 60 => 0x3FB9C17E#32
  | 61 => 0x3B7FF9CF#32
  | 62 => 0x3F167B15#32
  | 63 => 0xBFA59AF5#32
  | 64 => 0x40034B03#32
  | 65 => 0xBE2B978A#32
  | 66 => 0x4051D9A1#32
  | 67 => 0x3FA3FD91#32
  | 68 => 0x4037F26A#32
  | 69 => 0x402AD297#32
  | 70 => 0xBF629896#32
  | 71 => 0x40940A97#32
  | 72 => 0xBECC1311#32
  | 73 => 0xBF515688#32
  | 74 => 0xBF691A8D#32
  | 75 => 0x3FEB7061#32
  | 76 => 0x3F622835#32
  | 77 => 0x3F54BB74#32
  | 78 => 0x3FC62C5D#32
  | 79 => 0xBEB40990#32
  | 80 => 0x3FB93251#32
  | 81 => 0x40806D72#32
  | 82 => 0x3C525CBF#32
  | 83 => 0xBF7119A7#32
  | 84 => 0xBF1AE123#32
  | 85 => 0x3F08BC94#32
  | 86 => 0xBF2896B5#32
  | 87 => 0x3FF5E4DC#32
  | 88 => 0x3E139D4D#32
  | 89 => 0x400C4BA7#32
  | 90 => 0x4025A1B7#32
  | 91 => 0xBED3F8C1#32
  | 92 => 0x3FFA17FA#32
  | 93 => 0xBF4B463B#32
  | 94 => 0xBD828ECA#32
  | 95 => 0x3F8CC792#32
  | 96 => 0xBEB4E477#32
  | 97 => 0x3FA65A00#32
  | 98 => 0xBF13B98D#32
  | 99 => 0xBE8E874D#32
  | 100 => 0x40334959#32
  | 101 => 0xBEFC0765#32
  | 102 => 0x3E79A430#32
  | 103 => 0xBFED2500#32
  | 104 => 0x40392AF5#32
  | 105 => 0x401EA963#32
  | 106 => 0xBF42A784#32
  | 107 => 0xBF0AE2A5#32
  | 108 => 0x409CD63F#32
  | 109 => 0x40AA1AA5#32
  | 110 => 0xBF34C4D6#32
  | 111 => 0xBF44C8D8#32
  | 112 => 0x3EC69A46#32
  | 113 => 0x4096E031#32
  | 114 => 0xBF1C1531#32
  | 115 => 0x3EB43290#32
  | 116 => 0x3F0A1F4A#32
  | 117 => 0xBE03EDCA#32
  | 118 => 0x3F31D711#32
  | 119 => 0x3F888B40#32
  | 120 => 0x3C8FB779#32
  | 121 => 0xBEF8C3E5#32
  | 122 => 0xBEADBF75#32
  | 123 => 0xBE3AA708#32
  | 124 => 0xBE1EE256#32
  | 125 => 0xBEB0FCA3#32
  | 126 => 0xBF621510#32
  | 127 => 0xBEA4F670#32
  | _ => 0#32

noncomputable abbrev lit0t0_600 (i : Nat) : BitVec 32 := match i % 128 with
  | 0 => 0xBEDF9C2D#32
  | 1 => 0xBF6BB58C#32
  | 2 => 0x3FB8FE8D#32
  | 3 => 0xBF3573AD#32
  | 4 => 0x3F78C05A#32
  | 5 => 0x3EF128C8#32
  | 6 => 0xBF47E274#32
  | 7 => 0xBF455136#32
  | 8 => 0x3ED2D7B3#32
  | 9 => 0x3F8ED28D#32
  | 10 => 0xBF34A37A#32
  | 11 => 0xBC8FD80D#32
  | 12 => 0x3FB65BAC#32
  | 13 => 0x3ECF34C0#32
  | 14 => 0xBC0271B6#32
  | 15 => 0x3FE991E8#32
  | 16 => 0x3FB0E891#32
  | 17 => 0x3E955BB3#32
  | 18 => 0x3EA6940B#32
  | 19 => 0xBEE41FE8#32
  | 20 => 0x3FAF81D3#32
  | 21 => 0x400EE3D2#32
  | 22 => 0x3EA3C442#32
  | 23 => 0x3F107C50#32
  | 24 => 0x3EA47C2A#32
  | 25 => 0xBF03A79C#32
  | 26 => 0xBD5F817F#32
  | 27 => 0x3FFF22CC#32
  | 28 => 0x3F73AC62#32
  | 29 => 0x3FBBE035#32
  | 30 => 0xBF1F6CA8#32
  | 31 => 0xBEF1966E#32
  | 32 => 0x3F90F348#32
  | 33 => 0xBFAE2E1F#32
  | 34 => 0x3E724F97#32
  | 35 => 0xBF6A5E3E#32
  | 36 => 0x3F995C82#32
  | 37 => 0xBECAC6CC#32
  | 38 => 0xBF0E599A#32
  | 39 => 0x400A3D69#32
  | 40 => 0x3DF836F1#32
  | 41 => 0xBFB94DDF#32
  | 42 => 0x3E38BFD7#32
  | 43 => 0xBF651635#32
  | 44 => 0xBF49CB0E#32
  | 45 => 0xBE051F8C#32
  | 46 => 0x3FA304E5#32
  | 47 => 0xBEB68508#32
  | 48 => 0x3EA596A7#32
  | 49 => 0xBEB9441F#32
  | 50 => 0xBF2529EC#32
  | 51 => 0x3E617CBA#32
  | 52 => 0x3EDC491F#32
  | 53 => 0xBF670025#32
  | 54 => 0x3F449431#32
  | 55 => 0x3D399201#32
  | 56 => 0xBF9224B2#32
  | 57 => 0x3F0CB81E#32
  | 58 => 0x3FEC0421#32
  | 59 => 0x3E92ACFB#32
  | 60 => 0xBA1B5437#32
  | 61 => 0x3DF48015#32
  | 62 => 0xBFFF5CA7#32
  | 63 => 0xBE3E332E#32
  | 64 => 0x3F88D168#32
  | 65 => 0xBF575DC0#32
  | 66 => 0x401A13D1#32
  | 67 => 0x3F3EABA4#32
  | 68 => 0xBBEFE2AA#32
  | 69 => 0xBF79860F#32
  | 70 => 0xBEBC253D#32
  | 71 => 0x3EE1C3AD#32
  | 72 => 0xBE93D143#32
  | 73 => 0xBE315892#32
  | 74 => 0x3F9A54FA#32
  | 75 => 0x3E2811A5#32
  | 76 => 0xBE5AA0E7#32
  | 77 => 0x3F54B3C6#32
  | 78 => 0x3F0FA555#32
  | 79 => 0x3F2DC783#32
  | 80 => 0x3F9CBE70#32
  | 81 => 0x3EDD4193#32
  | 82 => 0x3DED9BF1#32
  | 83 => 0x3D950BD9#32
  | 84 => 0xBEF52105#32
  | 85 => 0x3F3611EF#32
  | 86 => 0x3E8222CA#32
  | 87 => 0xBDEE788A#32
  | 88 => 0x3F23C1F9#32
  | 89 => 0x40165ED2#32
  | 90 => 0xBE2F719C#32
  | 91 => 0xBF254344#32
  | 92 => 0x4081239D#32
  | 93 => 0x3EFB0F40#32
  | 94 => 0x3F95FD23#32
  | 95 => 0x3F919F5D#32
  | 96 => 0x404096DE#32
  | 97 => 0x3E06E2CF#32
  | 98 => 0xBF2EA8E5#32
  | 99 => 0xBF63A8A7#32
  | 100 => 0xBFA26ABB#32
  | 101 => 0x3F4026A7#32
  | 102 => 0xBD40DD26#32
  | 103 => 0x40454B45#32
  | 104 => 0xBE88D849#32
  | 105 => 0xBEDB1AE3#32
  | 106 => 0x3F864A80#32
  | 107 => 0x3F05B1EE#32
  | 108 => 0x3FFDEBCC#32
  | 109 => 0x3F3CA458#32
  | 110 => 0xBF9341B8#32
  | 111 => 0x3EC87B45#32
  | 112 => 0x3F3CD825#32
  | 113 => 0xBF8B98B2#32
  | 114 => 0x3FD96D61#32
  | 115 => 0x3F055EF4#32
  | 116 => 0x3FE9F79E#32
  | 117 => 0x3FFE10C4#32
  | 118 => 0x3CBC11F5#32
  | 119 => 0x3F963ACB#32
  | 120 => 0x3EBCF4E2#32
  | 121 => 0xBFAF10E9#32
  | 122 => 0x3F44FFA6#32
  | 123 => 0x3D7E1D5A#32
  | 124 => 0xBE6038A2#32
  | 125 => 0x3FD873A0#32
  | 126 => 0x3FBFF59A#32
  | 127 => 0xBD8769D5#32
  | _ => 0#32

noncomputable abbrev lit0t0_601 (i : Nat) : BitVec 32 := match i % 128 with
  | 0 => 0x3E556C4D#32
  | 1 => 0x3F7FA0EA#32
  | 2 => 0x3F97CBD7#32
  | 3 => 0x3F6951CA#32
  | 4 => 0xBE8165CC#32
  | 5 => 0xBF46C3BA#32
  | 6 => 0x3CFBAE6F#32
  | 7 => 0x4061D481#32
  | 8 => 0x3F336E1D#32
  | 9 => 0x4040CAE6#32
  | 10 => 0x3FB1E2DD#32
  | 11 => 0x3E076217#32
  | 12 => 0xBF607082#32
  | 13 => 0x3EEE083F#32
  | 14 => 0x3EA08C7B#32
  | 15 => 0x3F2D167F#32
  | 16 => 0xBEF99650#32
  | 17 => 0x3FD926D4#32
  | 18 => 0xBF970043#32
  | 19 => 0xBF65C605#32
  | 20 => 0x3F9DCCB0#32
  | 21 => 0x3FF6AA19#32
  | 22 => 0x3F8A8476#32
  | 23 => 0xBE46A868#32
  | 24 => 0x3FB954A6#32
  | 25 => 0x3F89C404#32
  | 26 => 0x3F5FF7E6#32
  | 27 => 0x409B2299#32
  | 28 => 0x3DFECC60#32
  | 29 => 0x3F604DE1#32
  | 30 => 0x3F8076D4#32
  | 31 => 0x3F590DA1#32
  | 32 => 0x3ECAAAE9#32
  | 33 => 0x403D33E5#32
  | 34 => 0x3D90241B#32
  | 35 => 0xBE6B0956#32
  | 36 => 0xBE095570#32
  | 37 => 0x3D0C6274#32
  | 38 => 0xBE3E13EE#32
  | 39 => 0x3F176B03#32
  | 40 => 0x4025C933#32
  | 41 => 0xBF0F825E#32
  | 42 => 0xBE88065F#32
  | 43 => 0x40206219#32
  | 44 => 0x3E3740D0#32
  | 45 => 0x3F1C0611#32
  | 46 => 0x3ED56113#32
  | 47 => 0x3FBB90B0#32
  | 48 => 0x3E847387#32
  | 49 => 0x3FB2C513#32
  | 50 => 0x3FBF7179#32
  | 51 => 0xBD0ED00B#32
  | 52 => 0xBFAF432E#32
  | 53 => 0x3CFB9487#32
  | 54 => 0xBE682D7A#32
  | 55 => 0x3F304CFA#32
  | 56 => 0x3EBF5451#32
  | 57 => 0xBEAFFC87#32
  | 58 => 0x3EDB91BF#32
  | 59 => 0xBF848880#32
  | 60 => 0x3F748BAE#32
  | 61 => 0xBF232F5E#32
  | 62 => 0x4010F7FA#32
  | 63 => 0x3E415E9E#32
  | 64 => 0xBF0A52EA#32
  | 65 => 0xBFD5142F#32
  | 66 => 0xBE813899#32
  | 67 => 0xBBD9AB83#32
  | 68 => 0xBE9FF9F0#32
  | 69 => 0xBF8C19D8#32
  | 70 => 0x3F6E6A24#32
  | 71 => 0xBEA323D8#32
  | 72 => 0x3E21E490#32
  | 73 => 0x3F81EF62#32
  | 74 => 0x3F56C267#32
  | 75 => 0xBEC92FC3#32
  | 76 => 0xBF40FE21#32
  | 77 => 0xBD10F6BB#32
  | 78 => 0xBF32F627#32
  | 79 => 0x402E359F#32
  | 80 => 0x3F0D9CFF#32
  | 81 => 0x3DA14EE7#32
  | 82 => 0xBF9A8B5C#32
  | 83 => 0xBF3F7A00#32
  | 84 => 0x401A03E6#32
  | 85 => 0x3F0F1D12#32
  | 86 => 0xBF14D9CA#32
  | 87 => 0x3F1CBA9C#32
  | 88 => 0x40160D2C#32
  | 89 => 0x3CE6BC5A#32
  | 90 => 0xBF5BD619#32
  | 91 => 0x402A4A2A#32
  | 92 => 0x3F0DE223#32
  | 93 => 0xBE8F9CAD#32
  | 94 => 0xBF437027#32
  | 95 => 0xBE107D78#32
  | 96 => 0xBF4CBC7D#32
  | 97 => 0x3E4EEC05#32
  | 98 => 0xBF1C4B9C#32
  | 99 => 0x40022BD8#32
  | 100 => 0xBDF54EDB#32
  | 101 => 0xBE010488#32
  | 102 => 0x3F776B36#32
  | 103 => 0xBEAC4DFA#32
  | 104 => 0x40E2763E#32
  | 105 => 0x3F1502AD#32
  | 106 => 0xBFB58F59#32
  | 107 => 0x40465E14#32
  | 108 => 0xBE8B20DC#32
  | 109 => 0x401D7A15#32
  | 110 => 0x3E7836F1#32
  | 111 => 0xBEAD3561#32
  | 112 => 0x3F3EEAA4#32
  | 113 => 0xBF9005FB#32
  | 114 => 0x3F41DFE3#32
  | 115 => 0x3EFB81A8#32
  | 116 => 0xBF370EF4#32
  | 117 => 0x3DA347AC#32
  | 118 => 0xBF74FB9E#32
  | 119 => 0x3F4407F5#32
  | 120 => 0x4019FF6B#32
  | 121 => 0x3E8A97E0#32
  | 122 => 0x3DD1CC73#32
  | 123 => 0x3C1741B1#32
  | 124 => 0xBD826770#32
  | 125 => 0xBE9D10DA#32
  | 126 => 0xBDE01F4B#32
  | 127 => 0x3F55B2CD#32
  | _ => 0#32

noncomputable abbrev lit0t0_602 (i : Nat) : BitVec 32 := match i % 128 with
  | 0 => 0x3F2135A0#32
  | 1 => 0x3F3A59A0#32
  | 2 => 0x4023EFBF#32
  | 3 => 0x3FCF0558#32
  | 4 => 0xBE30A3DB#32
  | 5 => 0x3DD50AE7#32
  | 6 => 0x3FA86655#32
  | 7 => 0x3FD1B72E#32
  | 8 => 0x40367F24#32
  | 9 => 0x3F2F61A3#32
  | 10 => 0xBEE5B2C8#32
  | 11 => 0x3F268A16#32
  | 12 => 0x3F1A7BD8#32
  | 13 => 0x3FC1903F#32
  | 14 => 0x3FBBC134#32
  | 15 => 0x40210B32#32
  | 16 => 0xBF61E3B9#32
  | 17 => 0xBED8E662#32
  | 18 => 0x3E1AC62D#32
  | 19 => 0xBE98FBDB#32
  | 20 => 0x3F828079#32
  | 21 => 0x3FF463CB#32
  | 22 => 0xBE7F1CC3#32
  | 23 => 0x3E0E09CD#32
  | 24 => 0x3E81003E#32
  | 25 => 0xBF8B2FA6#32
  | 26 => 0x3FFB74F1#32
  | 27 => 0xBE02D0FF#32
  | 28 => 0x3F9268F8#32
  | 29 => 0xBE46B380#32
  | 30 => 0xBFAD22B0#32
  | 31 => 0xBE3CA4A2#32
  | 32 => 0x40527E09#32
  | 33 => 0x3FCB3892#32
  | 34 => 0xBFD64E3D#32
  | 35 => 0x3F9F9485#32
  | 36 => 0xBDBDCC67#32
  | 37 => 0x3FDC2E80#32
  | 38 => 0xBD39BA6E#32
  | 39 => 0x3FEE719C#32
  | 40 => 0xBF4BFB4A#32
  | 41 => 0xBE0C45C9#32
  | 42 => 0xBF1340DB#32
  | 43 => 0x3EBB33D2#32
  | 44 => 0xBF3CF02C#32
  | 45 => 0x3FE7D7D3#32
  | 46 => 0xBECEBAA5#32
  | 47 => 0xBEA6E739#32
  | 48 => 0xBE7A9D0C#32
  | 49 => 0x3CBCBA8A#32
  | 50 => 0x3ECCFF62#32
  | 51 => 0x3E6DD287#32
  | 52 => 0xBEC6D7E5#32
  | 53 => 0x3E989042#32
  | 54 => 0x3E28C3EA#32
  | 55 => 0x3FD93D14#32
  | 56 => 0xBEE88C04#32
  | 57 => 0x3FAE4056#32
  | 58 => 0x3EEA0DA0#32
  | 59 => 0xBB21B4E3#32
  | 60 => 0xBF0BE113#32
  | 61 => 0xBF5498C3#32
  | 62 => 0x400AFA57#32
  | 63 => 0x3FE66C71#32
  | 64 => 0x3F252110#32
  | 65 => 0x3F891785#32
  | 66 => 0x400BB8E4#32
  | 67 => 0x3F1C339D#32
  | 68 => 0x3EB33A1A#32
  | 69 => 0x3FB223A9#32
  | 70 => 0xBF7F65BA#32
  | 71 => 0x3F69A190#32
  | 72 => 0x3FF19C2A#32
  | 73 => 0xBD9C69FC#32
  | 74 => 0x3F81934C#32
  | 75 => 0x40285CAF#32
  | 76 => 0xBFDEE2E4#32
  | 77 => 0x3FCFEEB7#32
  | 78 => 0x3B416F02#32
  | 79 => 0xBF5BEA8A#32
  | 80 => 0xBF98D199#32
  | 81 => 0x3E883C30#32
  | 82 => 0xBF81DBE1#32
  | 83 => 0x3E5C77A0#32
  | 84 => 0x3F75EE06#32
  | 85 => 0x3FFB0BA4#32
  | 86 => 0x3FDAF897#32
  | 87 => 0x3E92D6A6#32
  | 88 => 0x3F8AEC01#32
  | 89 => 0x3FD2CEFB#32
  | 90 => 0x3FA29314#32
  | 91 => 0x3FFDD228#32
  | 92 => 0x3F1A47BA#32
  | 93 => 0x3FC3EB40#32
  | 94 => 0x39908519#32
  | 95 => 0xBF947607#32
  | 96 => 0x3EAC312D#32
  | 97 => 0xBF15D775#32
  | 98 => 0x3F387022#32
  | 99 => 0x3F05B632#32
  | 100 => 0x3F1429B7#32
  | 101 => 0x3FAD9602#32
  | 102 => 0xBDBF5416#32
  | 103 => 0xBF570D97#32
  | 104 => 0xBEF34286#32
  | 105 => 0x3FEFEE74#32
  | 106 => 0x3EAE6BF3#32
  | 107 => 0x408D2E94#32
  | 108 => 0x4019EF8A#32
  | 109 => 0x3FA90AC5#32
  | 110 => 0x3ED4CA86#32
  | 111 => 0xBF8A7B1A#32
  | 112 => 0x3FD1E5E4#32
  | 113 => 0xBF28BC43#32
  | 114 => 0xBF978D43#32
  | 115 => 0xBEE16AB2#32
  | 116 => 0x3F9D5E28#32
  | 117 => 0x404A51D2#32
  | 118 => 0x400E35BF#32
  | 119 => 0x3E61ACF2#32
  | 120 => 0xBDD2970E#32
  | 121 => 0xBEEF5622#32
  | 122 => 0xBFD30A8E#32
  | 123 => 0xBF950972#32
  | 124 => 0xBD2E8902#32
  | 125 => 0xBF1BF264#32
  | 126 => 0x3FA3A661#32
  | 127 => 0xBE0ED996#32
  | _ => 0#32

noncomputable abbrev lit0t0_603 (i : Nat) : BitVec 32 := match i % 128 with
  | 0 => 0x3E13F569#32
  | 1 => 0x3F81D40D#32
  | 2 => 0x3F288FF9#32
  | 3 => 0x3F290931#32
  | 4 => 0xBF87DD7B#32
  | 5 => 0x3ECFF7D1#32
  | 6 => 0x3F483E90#32
  | 7 => 0xBFA8524D#32
  | 8 => 0x3F4BEF38#32
  | 9 => 0x3FD7E2B8#32
  | 10 => 0x3EA9D1CE#32
  | 11 => 0x3FF5EC66#32
  | 12 => 0xBF88CB5A#32
  | 13 => 0x3E2B7FF7#32
  | 14 => 0x3F51B3A3#32
  | 15 => 0xBF83C2DC#32
  | 16 => 0x40753F78#32
  | 17 => 0x4002CC96#32
  | 18 => 0xBCD1A888#32
  | 19 => 0x3F9F2967#32
  | 20 => 0xBFA2E880#32
  | 21 => 0xBEF5CADA#32
  | 22 => 0xBF38E6EC#32
  | 23 => 0x3FCFB926#32
  | 24 => 0x4030ADE7#32
  | 25 => 0x40097414#32
  | 26 => 0x3FC8E469#32
  | 27 => 0x3F9FD8C6#32
  | 28 => 0x3F1D80C1#32
  | 29 => 0x3F3B51AF#32
  | 30 => 0xBDA44D62#32
  | 31 => 0x3F82B89A#32
  | 32 => 0x3ED41261#32
  | 33 => 0x3F7F0D11#32
  | 34 => 0xBEE29755#32
  | 35 => 0x3F02BA46#32
  | 36 => 0xBFFA38C6#32
  | 37 => 0xBDB4E9B2#32
  | 38 => 0xBED2DFBA#32
  | 39 => 0x3FE3A46E#32
  | 40 => 0xBF893EE9#32
  | 41 => 0x3E679A71#32
  | 42 => 0xBF3A685C#32
  | 43 => 0x3F8ABC73#32
  | 44 => 0x3E585489#32
  | 45 => 0x3F254E52#32
  | 46 => 0xBEB3C0CE#32
  | 47 => 0x3E495036#32
  | 48 => 0xBE85D0A7#32
  | 49 => 0x3F0A7C1A#32
  | 50 => 0xBF574979#32
  | 51 => 0x3FA93008#32
  | 52 => 0xBEBA27C5#32
  | 53 => 0x4019EE0C#32
  | 54 => 0x3EC1699B#32
  | 55 => 0x3F98F5FD#32
  | 56 => 0x3F1FCAA4#32
  | 57 => 0x3E690127#32
  | 58 => 0xBC8D6AB7#32
  | 59 => 0xBE9E879E#32
  | 60 => 0x3FA9B60D#32
  | 61 => 0xBF312981#32
  | 62 => 0x3F83E971#32
  | 63 => 0xBF9F6246#32
  | 64 => 0xBF2B659B#32
  | 65 => 0xBDE27CB3#32
  | 66 => 0x3D3DF168#32
  | 67 => 0xBED7524D#32
  | 68 => 0xBEA9588F#32
  | 69 => 0xBF438275#32
  | 70 => 0xBF256F54#32
  | 71 => 0xBDD7351F#32
  | 72 => 0xBE6515CD#32
  | 73 => 0x3F122490#32
  | 74 => 0xBF818FB8#32
  | 75 => 0x3FA0C988#32
  | 76 => 0x3CBC7AB6#32
  | 77 => 0xBDE3FD8A#32
  | 78 => 0x3FBEC6A9#32
  | 79 => 0x3FC47C48#32
  | 80 => 0xBF99D556#32
  | 81 => 0x3FC3D2E5#32
  | 82 => 0xBE318138#32
  | 83 => 0x3F54060E#32
  | 84 => 0x3F742726#32
  | 85 => 0xBF45E39A#32
  | 86 => 0x3F5FEEFF#32
  | 87 => 0xBB072E49#32
  | 88 => 0xBEC0257F#32
  | 89 => 0xBEF2C00E#32
  | 90 => 0x3F6ADEAF#32
  | 91 => 0x3F46F4C1#32
  | 92 => 0x3FA000AC#32
  | 93 => 0x3DF95C08#32
  | 94 => 0x402DB05D#32
  | 95 => 0xBF1D591E#32
  | 96 => 0x3FD6C38E#32
  | 97 => 0x4069FA14#32
  | 98 => 0x3F506479#32
  | 99 => 0x40494169#32
  | 100 => 0xBF50B294#32
  | 101 => 0x3F0955A8#32
  | 102 => 0x3EA1632B#32
  | 103 => 0xBDCFF0C6#32
  | 104 => 0x3FD72542#32
  | 105 => 0x3E999EDB#32
  | 106 => 0xBF86F7FF#32
  | 107 => 0x3F56F58C#32
  | 108 => 0x3F1E6032#32
  | 109 => 0x3E3DF166#32
  | 110 => 0xBF19DDEF#32
  | 111 => 0x3EBF2286#32
  | 112 => 0xBE7C867E#32
  | 113 => 0x3FC09A2E#32
  | 114 => 0xBDCEA87F#32
  | 115 => 0xBF39EE7E#32
  | 116 => 0xBECA15C5#32
  | 117 => 0xBF113E00#32
  | 118 => 0x3EFAD419#32
  | 119 => 0x4006B51A#32
  | 120 => 0x3F2704BC#32
  | 121 => 0x40080691#32
  | 122 => 0x3FA47FEC#32
  | 123 => 0x3EC192C6#32
  | 124 => 0x4007E12E#32
  | 125 => 0xBF3900FB#32
  | 126 => 0xBF8AB7DE#32
  | 127 => 0xBE797AF7#32
  | _ => 0#32

noncomputable abbrev lit0t0_604 (i : Nat) : BitVec 32 := match i % 128 with
  | 0 => 0xBF6324A2#32
  | 1 => 0x3F75195E#32
  | 2 => 0x3FACCF1E#32
  | 3 => 0x3EB94A09#32
  | 4 => 0x3FDC0BDC#32
  | 5 => 0xBE44111D#32
  | 6 => 0x3EE03239#32
  | 7 => 0x4045E30A#32
  | 8 => 0xBF1B37CE#32
  | 9 => 0x3F9D6366#32
  | 10 => 0x3FE5E1F7#32
  | 11 => 0x3F6BCE22#32
  | 12 => 0x3F106EF2#32
  | 13 => 0xBF3A2198#32
  | 14 => 0x3F12B118#32
  | 15 => 0x3DF71AF0#32
  | 16 => 0x3FAFCFF9#32
  | 17 => 0x3E90E329#32
  | 18 => 0xBE4A5B64#32
  | 19 => 0x3F18E5D8#32
  | 20 => 0xBF7154AF#32
  | 21 => 0x4017A97C#32
  | 22 => 0x3FF4FD32#32
  | 23 => 0xBF3821B0#32
  | 24 => 0x3EAFAC4D#32
  | 25 => 0x402AF146#32
  | 26 => 0x3EC48F31#32
  | 27 => 0x3F69AD9A#32
  | 28 => 0xBEF72100#32
  | 29 => 0x3F70031B#32
  | 30 => 0x400F3E0F#32
  | 31 => 0x3DA43080#32
  | 32 => 0xBF770BCA#32
  | 33 => 0x3FED605D#32
  | 34 => 0xBF3F6295#32
  | 35 => 0xBF7112D9#32
  | 36 => 0x3EB51845#32
  | 37 => 0x3FE80B0C#32
  | 38 => 0xBE574791#32
  | 39 => 0xBE126E44#32
  | 40 => 0x3EEF63AC#32
  | 41 => 0x3E60A588#32
  | 42 => 0xBDF05384#32
  | 43 => 0xBEC9B614#32
  | 44 => 0xBF550BCA#32
  | 45 => 0x3F009097#32
  | 46 => 0x3F0F7926#32
  | 47 => 0x3F987F1B#32
  | 48 => 0x3EE749EC#32
  | 49 => 0x3E7EFD32#32
  | 50 => 0xBE5446B2#32
  | 51 => 0xBF2490FD#32
  | 52 => 0x401D14FF#32
  | 53 => 0xBE460458#32
  | 54 => 0xBF64932F#32
  | 55 => 0x3F9F493E#32
  | 56 => 0xBFBA7695#32
  | 57 => 0x3EF902F9#32
  | 58 => 0x3F484D98#32
  | 59 => 0xBE147F9D#32
  | 60 => 0xBF32B072#32
  | 61 => 0x3F786EDC#32
  | 62 => 0xBE8A9EF9#32
  | 63 => 0xBE8A7F81#32
  | 64 => 0xBEE5E9BC#32
  | 65 => 0xBD8C7DA3#32
  | 66 => 0x3EDDCA56#32
  | 67 => 0x3F8440B0#32
  | 68 => 0xBDBEB766#32
  | 69 => 0x3F6BC120#32
  | 70 => 0xBEC227BC#32
  | 71 => 0x3FAA05CF#32
  | 72 => 0x3F25ACF7#32
  | 73 => 0x3E9A1FA0#32
  | 74 => 0x3F55E6B6#32
  | 75 => 0x3FB92D71#32
  | 76 => 0x3FA16DB6#32
  | 77 => 0x3DA83B5A#32
  | 78 => 0xBF47DF89#32
  | 79 => 0x3F11BA99#32
  | 80 => 0x3F85B0AE#32
  | 81 => 0x3ED76783#32
  | 82 => 0x3F360ADC#32
  | 83 => 0x3F28A97A#32
  | 84 => 0x3F35AE3F#32
  | 85 => 0x3F6CCC64#32
  | 86 => 0xBF855248#32
  | 87 => 0xBE0758EB#32
  | 88 => 0x3EA14BC1#32
  | 89 => 0x3FD97826#32
  | 90 => 0x3F87088A#32
  | 91 => 0x3F81ACA4#32
  | 92 => 0x3F5FF523#32
  | 93 => 0x3FE3B0B3#32
  | 94 => 0x400BBDAA#32
  | 95 => 0x3F40D637#32
  | 96 => 0x3F38F276#32
  | 97 => 0x3FB3169E#32
  | 98 => 0x3F981D42#32
  | 99 => 0x3FB06CDD#32
  | 100 => 0x40565F5D#32
  | 101 => 0x40433D94#32
  | 102 => 0xBF6AB4C2#32
  | 103 => 0x3F3D78B1#32
  | 104 => 0xBFAA5592#32
  | 105 => 0x3FDB0877#32
  | 106 => 0x3ED861D9#32
  | 107 => 0x3EEF5B14#32
  | 108 => 0x3F83579A#32
  | 109 => 0x3FF7B96E#32
  | 110 => 0x3FB7603A#32
  | 111 => 0xBF35293A#32
  | 112 => 0x3EE6D425#32
  | 113 => 0x3FA1E5D8#32
  | 114 => 0x3F70E49F#32
  | 115 => 0x3F378B8C#32
  | 116 => 0x408ABFEC#32
  | 117 => 0x3E94729B#32
  | 118 => 0x3FA898C2#32
  | 119 => 0x3C338BEF#32
  | 120 => 0x400FB90A#32
  | 121 => 0x3D26C7AE#32
  | 122 => 0xBE987C1E#32
  | 123 => 0x3CE53B73#32
  | 124 => 0x3F9D1A79#32
  | 125 => 0xBDB3B6A5#32
  | 126 => 0xBE74EB8E#32
  | 127 => 0x3F678AF5#32
  | _ => 0#32

noncomputable abbrev lit0t0_605 (i : Nat) : BitVec 32 := match i % 128 with
  | 0 => 0x3F84C792#32
  | 1 => 0xBF48D011#32
  | 2 => 0x3E83DFDC#32
  | 3 => 0x3EE94CEA#32
  | 4 => 0xBFB57B4E#32
  | 5 => 0x407397B0#32
  | 6 => 0x3FAFBDFD#32
  | 7 => 0x4021B5D5#32
  | 8 => 0xBF911320#32
  | 9 => 0x3C83ED1D#32
  | 10 => 0x4009908B#32
  | 11 => 0xBF1344AE#32
  | 12 => 0x3FCA8A8F#32
  | 13 => 0xBEA47040#32
  | 14 => 0xBF91D456#32
  | 15 => 0x3F1ED471#32
  | 16 => 0x3F1EF8B6#32
  | 17 => 0x3EA68419#32
  | 18 => 0x3FE67269#32
  | 19 => 0xBDE0A240#32
  | 20 => 0x3C7EA3F6#32
  | 21 => 0xBF4FC6CB#32
  | 22 => 0x4022D826#32
  | 23 => 0x3FB1B925#32
  | 24 => 0xBF280891#32
  | 25 => 0xBE079965#32
  | 26 => 0xBF514E52#32
  | 27 => 0xBF68A578#32
  | 28 => 0xBDE25608#32
  | 29 => 0x3EF22C87#32
  | 30 => 0x3FC511A9#32
  | 31 => 0xBF37E0A6#32
  | 32 => 0xBF0D9F3F#32
  | 33 => 0x3FCF4FDD#32
  | 34 => 0x3EE74666#32
  | 35 => 0x3F8EBE42#32
  | 36 => 0xBF9D15C2#32
  | 37 => 0xBE51FCDE#32
  | 38 => 0xBF84CF95#32
  | 39 => 0x3F105371#32
  | 40 => 0xBDA19566#32
  | 41 => 0xBF8C2DEF#32
  | 42 => 0x407A603C#32
  | 43 => 0x3F9F9E8F#32
  | 44 => 0xBF11BA42#32
  | 45 => 0x3F124860#32
  | 46 => 0x3FEBF4A1#32
  | 47 => 0xBEE0B1AA#32
  | 48 => 0x3F2ACE02#32
  | 49 => 0x400B9416#32
  | 50 => 0x4005C001#32
  | 51 => 0xBF41C40D#32
  | 52 => 0x3DDAB408#32
  | 53 => 0x3EA2B82C#32
  | 54 => 0x3FCF29B6#32
  | 55 => 0xBFB483A9#32
  | 56 => 0x3FEE7B83#32
  | 57 => 0x3FE73D50#32
  | 58 => 0xBFB4CBE4#32
  | 59 => 0xBE036E5F#32
  | 60 => 0x3F9950B6#32
  | 61 => 0x3FC51AF6#32
  | 62 => 0xBE665274#32
  | 63 => 0x3EF43706#32
  | 64 => 0x3F18483A#32
  | 65 => 0x3E81B5DA#32
  | 66 => 0x3F4E41F2#32
  | 67 => 0x400F70B2#32
  | 68 => 0x3FFAD8EB#32
  | 69 => 0x3FC0DDCA#32
  | 70 => 0x3F7112F2#32
  | 71 => 0x3F24B987#32
  | 72 => 0x3F9C3C63#32
  | 73 => 0x3C042209#32
  | 74 => 0x3F0F6C00#32
  | 75 => 0x3F5F530E#32
  | 76 => 0x3D83ECE9#32
  | 77 => 0x3F89E4A5#32
  | 78 => 0x4034FFB7#32
  | 79 => 0x400919FA#32
  | 80 => 0xBF86CA76#32
  | 81 => 0x3E14B515#32
  | 82 => 0x3FAE85CF#32
  | 83 => 0x401C68C9#32
  | 84 => 0x3E3CE52F#32
  | 85 => 0x3FDC2BD0#32
  | 86 => 0xBF079D39#32
  | 87 => 0xBF98C1B9#32
  | 88 => 0x3F98C5D8#32
  | 89 => 0x40911161#32
  | 90 => 0xBD05A9D2#32
  | 91 => 0xBDEE4B88#32
  | 92 => 0x3EB70184#32
  | 93 => 0xBE11D3FE#32
  | 94 => 0x3FBFA159#32
  | 95 => 0xBE165882#32
  | 96 => 0x3FB3A680#32
  | 97 => 0xBDA14420#32
  | 98 => 0xBEA0F791#32
  | 99 => 0x3F159758#32
  | 100 => 0x402F513C#32
  | 101 => 0x3FDAFB19#32
  | 102 => 0x402EC8CA#32
  | 103 => 0x3EBE3960#32
  | 104 => 0x3FA6B8C5#32
  | 105 => 0xBFA1FB27#32
  | 106 => 0x3F78DB56#32
  | 107 => 0x3F10695F#32
  | 108 => 0x3F6F6E12#32
  | 109 => 0xBE7C4F9D#32
  | 110 => 0xBEB1421C#32
  | 111 => 0x3F724501#32
  | 112 => 0xBF0B8A16#32
  | 113 => 0xBEAFD666#32
  | 114 => 0xBE8CD826#32
  | 115 => 0x3F295901#32
  | 116 => 0x3F6D415A#32
  | 117 => 0x3EE1C204#32
  | 118 => 0x3FAE9AE0#32
  | 119 => 0x3FCC9BBD#32
  | 120 => 0xBF7A7856#32
  | 121 => 0xBEDF3C86#32
  | 122 => 0x3ECBB53E#32
  | 123 => 0x3F82DD68#32
  | 124 => 0x3F77FF10#32
  | 125 => 0x3EE2F742#32
  | 126 => 0xBEC03773#32
  | 127 => 0x4005A85D#32
  | _ => 0#32

noncomputable abbrev lit0t0_606 (i : Nat) : BitVec 32 := match i % 128 with
  | 0 => 0x3EE1A244#32
  | 1 => 0xBF28DE09#32
  | 2 => 0x3F4F71F5#32
  | 3 => 0x3DC90F7C#32
  | 4 => 0xBF50D1BB#32
  | 5 => 0xBE8164F6#32
  | 6 => 0x3E97FB12#32
  | 7 => 0x3F7328B8#32
  | 8 => 0xBF52FF24#32
  | 9 => 0xBF55825D#32
  | 10 => 0x40350E9E#32
  | 11 => 0xC01BFD66#32
  | 12 => 0xBF5D525A#32
  | 13 => 0xBEE83DC4#32
  | 14 => 0x3EA87B87#32
  | 15 => 0xBD667CC7#32
  | 16 => 0x3EBC9752#32
  | 17 => 0x3D3AD9E4#32
  | 18 => 0x3FD2B7FA#32
  | 19 => 0x3F059C98#32
  | 20 => 0xBF43297E#32
  | 21 => 0x3F1388BC#32
  | 22 => 0x3EB21F13#32
  | 23 => 0x3DBB2D2A#32
  | 24 => 0xBEB80555#32
  | 25 => 0x3F0987FC#32
  | 26 => 0x3DADCF62#32
  | 27 => 0xBEB384E4#32
  | 28 => 0x3F179A0F#32
  | 29 => 0x3EF4C254#32
  | 30 => 0x3F4F9C9B#32
  | 31 => 0x3EA49F94#32
  | 32 => 0xBFA262C4#32
  | 33 => 0x3E373318#32
  | 34 => 0xBF04CC02#32
  | 35 => 0x3FFB6FC7#32
  | 36 => 0x3F95193E#32
  | 37 => 0xBF2C9AFB#32
  | 38 => 0x3FB6000D#32
  | 39 => 0x3FB22CB5#32
  | 40 => 0x3EF71722#32
  | 41 => 0xBF5C011A#32
  | 42 => 0x3CF0396F#32
  | 43 => 0x3F245F69#32
  | 44 => 0x403D5131#32
  | 45 => 0xBEB72CDE#32
  | 46 => 0x3E8DDA6A#32
  | 47 => 0xBD8CBD4C#32
  | 48 => 0xBEEDB784#32
  | 49 => 0x3EB97A07#32
  | 50 => 0x3FE369C3#32
  | 51 => 0x3ED2D96E#32
  | 52 => 0xBE0DD643#32
  | 53 => 0xBF60411F#32
  | 54 => 0x3EDC03BD#32
  | 55 => 0xBD7A70E9#32
  | 56 => 0x3F9D9B49#32
  | 57 => 0xBE60B82F#32
  | 58 => 0x3F25A189#32
  | 59 => 0x3E0B7337#32
  | 60 => 0xBFCFC0C7#32
  | 61 => 0xBFE9F5A0#32
  | 62 => 0x3F08D4AC#32
  | 63 => 0xBF92779A#32
  | 64 => 0x3B383839#32
  | 65 => 0xBF53DB6C#32
  | 66 => 0xBF583022#32
  | 67 => 0x3F5AFC87#32
  | 68 => 0xBF313BEE#32
  | 69 => 0x3F59CF28#32
  | 70 => 0xBF0D02AD#32
  | 71 => 0x3E25ABE1#32
  | 72 => 0x3F979E68#32
  | 73 => 0xBF121127#32
  | 74 => 0x3F61CB78#32
  | 75 => 0x3EB2F9DD#32
  | 76 => 0x3F83DFBA#32
  | 77 => 0x3E79DFD4#32
  | 78 => 0x3F6FA2A4#32
  | 79 => 0xBE889AA4#32
  | 80 => 0xBF07F08C#32
  | 81 => 0x3EFF95FE#32
  | 82 => 0x404513E8#32
  | 83 => 0x3FA90B0E#32
  | 84 => 0xBF4798DD#32
  | 85 => 0x3FBC713C#32
  | 86 => 0x3E437B32#32
  | 87 => 0x3F22E639#32
  | 88 => 0x40098FB7#32
  | 89 => 0x3F14F7A6#32
  | 90 => 0x3FA1141D#32
  | 91 => 0x3F7D1BFC#32
  | 92 => 0x3F980006#32
  | 93 => 0x3F4150F4#32
  | 94 => 0x40025B42#32
  | 95 => 0xBF90A1B2#32
  | 96 => 0x3F1C6BB4#32
  | 97 => 0x3DB41103#32
  | 98 => 0x3FBDBD0F#32
  | 99 => 0x3F678D72#32
  | 100 => 0x3FD3512D#32
  | 101 => 0xBE155029#32
  | 102 => 0x3FE60E5D#32
  | 103 => 0xBF85016B#32
  | 104 => 0x3F92128D#32
  | 105 => 0x3E6A661E#32
  | 106 => 0xBF861FF6#32
  | 107 => 0x3F7C3D64#32
  | 108 => 0x3FBB08AA#32
  | 109 => 0x403A6696#32
  | 110 => 0x3FC31170#32
  | 111 => 0x3DA015B4#32
  | 112 => 0xBEF27A94#32
  | 113 => 0x3F8AD6EF#32
  | 114 => 0xBF578DD3#32
  | 115 => 0xBFAB302F#32
  | 116 => 0xBEE81B9C#32
  | 117 => 0x3E9A6861#32
  | 118 => 0xBF6EAD7A#32
  | 119 => 0x400404BB#32
  | 120 => 0x3E93B04D#32
  | 121 => 0x3F6C0E94#32
  | 122 => 0x3F7992F1#32
  | 123 => 0x3FF1C6E6#32
  | 124 => 0x3F3E2FD2#32
  | 125 => 0x3FB7AA42#32
  | 126 => 0x3EDD3A58#32
  | 127 => 0xBF4ACBF4#32
  | _ => 0#32

noncomputable abbrev lit0t0_607 (i : Nat) : BitVec 32 := match i % 128 with
  | 0 => 0xBEDE0E73#32
  | 1 => 0xBEBE4C55#32
  | 2 => 0x3E75ED10#32
  | 3 => 0xBF33AB5B#32
  | 4 => 0x3FD405AD#32
  | 5 => 0x3FB97B08#32
  | 6 => 0xBC1203F0#32
  | 7 => 0x40330A00#32
  | 8 => 0xBE1C3420#32
  | 9 => 0xBF22B889#32
  | 10 => 0x3FE74DF8#32
  | 11 => 0x3EB07178#32
  | 12 => 0x3E3B2AB4#32
  | 13 => 0x3C1E5841#32
  | 14 => 0x3D96EEEF#32
  | 15 => 0x3E26F735#32
  | 16 => 0x3F8A4AA5#32
  | 17 => 0x3FEF73D5#32
  | 18 => 0x404E1A04#32
  | 19 => 0x40386BC3#32
  | 20 => 0xBF0C9560#32
  | 21 => 0xBDDD2ABC#32
  | 22 => 0x3EE1B206#32
  | 23 => 0x3E23CD7A#32
  | 24 => 0xBB0E5C64#32
  | 25 => 0x3F34D3A7#32
  | 26 => 0x40112068#32
  | 27 => 0xBEC7AE0C#32
  | 28 => 0xBF223BB4#32
  | 29 => 0x3F7308BA#32
  | 30 => 0xBFBF2B57#32
  | 31 => 0x3F08AD02#32
  | 32 => 0x3F77FF74#32
  | 33 => 0xBE9A2112#32
  | 34 => 0xBE5646FA#32
  | 35 => 0x3F95D1C6#32
  | 36 => 0xBD3D7755#32
  | 37 => 0xBF17AF4F#32
  | 38 => 0xBE84D6BD#32
  | 39 => 0xBF948E8B#32
  | 40 => 0xBEE50912#32
  | 41 => 0x3EDC80B1#32
  | 42 => 0xBD8E8A2C#32
  | 43 => 0x3F0C08FA#32
  | 44 => 0xBF460A6A#32
  | 45 => 0x4009AC82#32
  | 46 => 0x3F3E9262#32
  | 47 => 0x3F874841#32
  | 48 => 0xBE02BF56#32
  | 49 => 0x3FD2F0CE#32
  | 50 => 0xBF4B92E3#32
  | 51 => 0xBF3B9DE3#32
  | 52 => 0xBF68B5D9#32
  | 53 => 0x3D6B0899#32
  | 54 => 0x3F5E2C7E#32
  | 55 => 0xBF3F7EAF#32
  | 56 => 0x3E286A00#32
  | 57 => 0x3FB7F66C#32
  | 58 => 0x3EDF379A#32
  | 59 => 0xBF858523#32
  | 60 => 0x3F89AD93#32
  | 61 => 0x3EADF5F1#32
  | 62 => 0xBF1AA21B#32
  | 63 => 0x3FDADBF6#32
  | 64 => 0x3F09B9DA#32
  | 65 => 0xBF416C23#32
  | 66 => 0x3F45B536#32
  | 67 => 0x3F781F3B#32
  | 68 => 0x3F967442#32
  | 69 => 0xBF98C50E#32
  | 70 => 0x3F3972E2#32
  | 71 => 0x3FD7F0AA#32
  | 72 => 0x4002A3BF#32
  | 73 => 0x3F58BB5C#32
  | 74 => 0x3FE6FC6B#32
  | 75 => 0xBE5FDE2A#32
  | 76 => 0xBF91FC44#32
  | 77 => 0x3FFA0F7F#32
  | 78 => 0x3F2C73E0#32
  | 79 => 0x3EA8ECEF#32
  | 80 => 0xBE5B11E3#32
  | 81 => 0x3FF5ED8A#32
  | 82 => 0xBF0D4770#32
  | 83 => 0x3FD5754A#32
  | 84 => 0x3E88A26F#32
  | 85 => 0x3E543779#32
  | 86 => 0xBF380D34#32
  | 87 => 0x3E8D45B7#32
  | 88 => 0x3F6F47EA#32
  | 89 => 0x3CDCD48B#32
  | 90 => 0x403D5355#32
  | 91 => 0x3E7AEE5C#32
  | 92 => 0xBDE8D8F8#32
  | 93 => 0x3ED8B6CE#32
  | 94 => 0xBF100221#32
  | 95 => 0xBF78FFE6#32
  | 96 => 0x3FD75705#32
  | 97 => 0xBF820DCC#32
  | 98 => 0x3F06CAA5#32
  | 99 => 0x405CC328#32
  | 100 => 0x3F3704B6#32
  | 101 => 0xBD2FCD18#32
  | 102 => 0x3F806D48#32
  | 103 => 0x3F9BF001#32
  | 104 => 0xBF70471A#32
  | 105 => 0x3FDA13BE#32
  | 106 => 0x401BACEC#32
  | 107 => 0xBE88B626#32
  | 108 => 0x3DBEC81C#32
  | 109 => 0xBEEB0AF4#32
  | 110 => 0x3D11AE4C#32
  | 111 => 0x3F82BC5E#32
  | 112 => 0x3FF58178#32
  | 113 => 0x3F06DFE6#32
  | 114 => 0xBF3F34D4#32
  | 115 => 0xBE8F8E4C#32
  | 116 => 0x3F4D8AE2#32
  | 117 => 0x3FBD505E#32
  | 118 => 0xBF88BA3E#32
  | 119 => 0xBF1367B5#32
  | 120 => 0xBD17AD3D#32
  | 121 => 0x400DB6A5#32
  | 122 => 0xBD766AD2#32
  | 123 => 0x3F1F9C1A#32
  | 124 => 0x3EFB0D6A#32
  | 125 => 0x4024B48B#32
  | 126 => 0x3FC401E5#32
  | 127 => 0x3FF45BD0#32
  | _ => 0#32

noncomputable abbrev lit0t0_608 (i : Nat) : BitVec 32 := match i % 128 with
  | 0 => 0x3EFA2E3F#32
  | 1 => 0xBF06F0EA#32
  | 2 => 0xBF04F70F#32
  | 3 => 0x3E4AF3F7#32
  | 4 => 0xBEF5AB36#32
  | 5 => 0x3DAD6531#32
  | 6 => 0x3FE80B7F#32
  | 7 => 0xBB4F380B#32
  | 8 => 0xBF00253C#32
  | 9 => 0x3F9128FC#32
  | 10 => 0x400AB57B#32
  | 11 => 0x3FDCC3FF#32
  | 12 => 0x3F94AC1F#32
  | 13 => 0x3EAB3E07#32
  | 14 => 0xBE54310D#32
  | 15 => 0x3EBA5595#32
  | 16 => 0xBF719E85#32
  | 17 => 0xBF0E9CBB#32
  | 18 => 0x3FDC6E5B#32
  | 19 => 0x3FBDB996#32
  | 20 => 0x406F78CC#32
  | 21 => 0xBF96E0E2#32
  | 22 => 0x4048CCB8#32
  | 23 => 0x3F99044C#32
  | 24 => 0xBFB0FE9D#32
  | 25 => 0xBF666480#32
  | 26 => 0x403BBD63#32
  | 27 => 0x3EBC41D7#32
  | 28 => 0x3D517E89#32
  | 29 => 0x3FB6F70D#32
  | 30 => 0xBB66F3B3#32
  | 31 => 0x4087741E#32
  | 32 => 0x3E45597D#32
  | 33 => 0x3E4CB5E0#32
  | 34 => 0x3DE297A4#32
  | 35 => 0x3FA13CF9#32
  | 36 => 0xBFA119DD#32
  | 37 => 0x3E9994AE#32
  | 38 => 0x3DED4699#32
  | 39 => 0xBF3B57E0#32
  | 40 => 0xBE5B0A52#32
  | 41 => 0x3E5C389D#32
  | 42 => 0x3E353635#32
  | 43 => 0xBF8A2EBC#32
  | 44 => 0x3F5375D0#32
  | 45 => 0xBF8EFF03#32
  | 46 => 0xBE4C9D64#32
  | 47 => 0xBF749BCA#32
  | 48 => 0xBEF58BAF#32
  | 49 => 0x3F4E2A07#32
  | 50 => 0xBEF17440#32
  | 51 => 0xBDCD1001#32
  | 52 => 0xBEA3CFAA#32
  | 53 => 0x3F7FFCBA#32
  | 54 => 0xBFB780C6#32
  | 55 => 0x3F585BD2#32
  | 56 => 0x3E54506D#32
  | 57 => 0xBF97D4E8#32
  | 58 => 0xBF3521D2#32
  | 59 => 0xBF0AE53C#32
  | 60 => 0x3FDB0FB1#32
  | 61 => 0x3ED2BBFA#32
  | 62 => 0x3E74CC80#32
  | 63 => 0xBE497772#32
  | 64 => 0x4008A787#32
  | 65 => 0x401E732B#32
  | 66 => 0x3FD27698#32
  | 67 => 0x3E0A1FC4#32
  | 68 => 0x3E22678E#32
  | 69 => 0x3F119358#32
  | 70 => 0xBEE4A014#32
  | 71 => 0x3F604D5D#32
  | 72 => 0x3D46642A#32
  | 73 => 0xBF7C2814#32
  | 74 => 0x40A9503C#32
  | 75 => 0xBFC69554#32
  | 76 => 0x3F711BCC#32
  | 77 => 0x3DB8B795#32
  | 78 => 0xBEBB6B43#32
  | 79 => 0x3F6D2850#32
  | 80 => 0xBF9C498E#32
  | 81 => 0xBFAE9C7F#32
  | 82 => 0x40648ED3#32
  | 83 => 0x3F9B2A99#32
  | 84 => 0x3EDF27E8#32
  | 85 => 0x3D8A87BA#32
  | 86 => 0x3FCD1380#32
  | 87 => 0xBF5002F8#32
  | 88 => 0xBE7B4531#32
  | 89 => 0x3FB78609#32
  | 90 => 0xBF80FAC6#32
  | 91 => 0x400E7A94#32
  | 92 => 0xBE8A9192#32
  | 93 => 0xBF12D4EF#32
  | 94 => 0xBCEC85AC#32
  | 95 => 0x3F635DF4#32
  | 96 => 0xBDBF03B3#32
  | 97 => 0x40213810#32
  | 98 => 0xBF85470E#32
  | 99 => 0x3E931069#32
  | 100 => 0x3D81D6EA#32
  | 101 => 0x3FE74A35#32
  | 102 => 0x3FB00EF3#32
  | 103 => 0x402CA44A#32
  | 104 => 0x3FF7809C#32
  | 105 => 0x3E10792B#32
  | 106 => 0xBE1666AD#32
  | 107 => 0xBF208BE9#32
  | 108 => 0x4029A14D#32
  | 109 => 0x4005EBEC#32
  | 110 => 0x3F0CD9C0#32
  | 111 => 0x3FD6F150#32
  | 112 => 0x3F3419FA#32
  | 113 => 0x3EEBBDDC#32
  | 114 => 0x40087A7D#32
  | 115 => 0x406B518B#32
  | 116 => 0xBE1ACB44#32
  | 117 => 0x3C842217#32
  | 118 => 0x3F68ED23#32
  | 119 => 0x3FA70AB1#32
  | 120 => 0x3EB2BC25#32
  | 121 => 0x3FF762A9#32
  | 122 => 0xBE8C9473#32
  | 123 => 0x3ED5811A#32
  | 124 => 0x3F0E72A1#32
  | 125 => 0xBF47AC0C#32
  | 126 => 0x3EBC82B4#32
  | 127 => 0xBFA09D75#32
  | _ => 0#32

noncomputable abbrev lit0t0_609 (i : Nat) : BitVec 32 := match i % 128 with
  | 0 => 0x3F21136D#32
  | 1 => 0x3FE0A6CA#32
  | 2 => 0x3FBB72CF#32
  | 3 => 0x3FDA79CE#32
  | 4 => 0x3ED7D321#32
  | 5 => 0xBEB7B10B#32
  | 6 => 0x3FC1182C#32
  | 7 => 0x3EA877BE#32
  | 8 => 0xBFDB087C#32
  | 9 => 0xBF8138BA#32
  | 10 => 0x3FE1B850#32
  | 11 => 0x3FBD6B34#32
  | 12 => 0x3F98F332#32
  | 13 => 0xBFBB8ABC#32
  | 14 => 0x3E99B8A8#32
  | 15 => 0x40247EA6#32
  | 16 => 0xBF997A36#32
  | 17 => 0x3FCCFBF5#32
  | 18 => 0x3F6F9594#32
  | 19 => 0x3F98470A#32
  | 20 => 0xBFC140FB#32
  | 21 => 0x3FC43E3C#32
  | 22 => 0x3DF4799A#32
  | 23 => 0x40385F0D#32
  | 24 => 0xBF47412B#32
  | 25 => 0xBEF6549F#32
  | 26 => 0x3F3C580D#32
  | 27 => 0xBF8F4431#32
  | 28 => 0x407F592C#32
  | 29 => 0xBD404B89#32
  | 30 => 0xBEF35B5E#32
  | 31 => 0xBF8E1B43#32
  | 32 => 0x3E1A9525#32
  | 33 => 0x3BE891C9#32
  | 34 => 0x3C20DB7D#32
  | 35 => 0x3FD3B881#32
  | 36 => 0x3F970ED4#32
  | 37 => 0x408045B4#32
  | 38 => 0xBEA263CB#32
  | 39 => 0x3FE0DE2E#32
  | 40 => 0x4009DAD8#32
  | 41 => 0xBDEDAE1E#32
  | 42 => 0xBF19745F#32
  | 43 => 0xBD0B7A98#32
  | 44 => 0xBF2F2E7E#32
  | 45 => 0x3F451474#32
  | 46 => 0x3FA1B300#32
  | 47 => 0xBCB31A9B#32
  | 48 => 0x401B2C85#32
  | 49 => 0x3F1F5B8D#32
  | 50 => 0x3DCCCA8D#32
  | 51 => 0xBF992592#32
  | 52 => 0x3E2C0DA9#32
  | 53 => 0x3F943EC0#32
  | 54 => 0xBCE18194#32
  | 55 => 0x3E90AFF9#32
  | 56 => 0x3E56D16B#32
  | 57 => 0xBFC687CE#32
  | 58 => 0x3F185925#32
  | 59 => 0xBEB6FCCC#32
  | 60 => 0xBF1E2E76#32
  | 61 => 0x3FDA3CAD#32
  | 62 => 0x3EF3E7F3#32
  | 63 => 0x3FD8F5E4#32
  | 64 => 0x3F80E1A7#32
  | 65 => 0x3F27BB6D#32
  | 66 => 0xBF573EDC#32
  | 67 => 0xBF871628#32
  | 68 => 0x3F1C9ABF#32
  | 69 => 0xBC809746#32
  | 70 => 0x3DE86139#32
  | 71 => 0x4018096C#32
  | 72 => 0x40058BCC#32
  | 73 => 0x3F98ECE4#32
  | 74 => 0x3FEB54F6#32
  | 75 => 0x3E19081D#32
  | 76 => 0xBF53C12E#32
  | 77 => 0xBFA29E30#32
  | 78 => 0x3F72083F#32
  | 79 => 0x40813559#32
  | 80 => 0xBE12905E#32
  | 81 => 0x4024D0D0#32
  | 82 => 0x3F91B845#32
  | 83 => 0x4007F8A2#32
  | 84 => 0xBD7C6EA4#32
  | 85 => 0x401A0CB9#32
  | 86 => 0x3F80D588#32
  | 87 => 0x3F36873B#32
  | 88 => 0x3F64536B#32
  | 89 => 0x3DB79A93#32
  | 90 => 0x3F79B994#32
  | 91 => 0x3F8E2605#32
  | 92 => 0xBDC48BD8#32
  | 93 => 0xBF9B6594#32
  | 94 => 0xBF66799D#32
  | 95 => 0xBF7E3B89#32
  | 96 => 0xBF6F16D1#32
  | 97 => 0x3F510D05#32
  | 98 => 0x40232E6E#32
  | 99 => 0xBE20F4B9#32
  | 100 => 0xBF3FA3F2#32
  | 101 => 0x3F911CFE#32
  | 102 => 0xBEF3CF86#32
  | 103 => 0xBEF6AFFE#32
  | 104 => 0xBF661FF3#32
  | 105 => 0xBF13ACF3#32
  | 106 => 0xBE5906DB#32
  | 107 => 0x40169B69#32
  | 108 => 0xBF97FD6B#32
  | 109 => 0x3E0D762C#32
  | 110 => 0x3F5E7D82#32
  | 111 => 0x3ED7F548#32
  | 112 => 0x40048AC5#32
  | 113 => 0x40210B17#32
  | 114 => 0x3E839534#32
  | 115 => 0xBFD1F305#32
  | 116 => 0xBDE5FC06#32
  | 117 => 0xBF3571FA#32
  | 118 => 0x3F661203#32
  | 119 => 0xBE9D18E9#32
  | 120 => 0x3F200840#32
  | 121 => 0x3E7EB5B1#32
  | 122 => 0x3F37A893#32
  | 123 => 0xBF21EECF#32
  | 124 => 0x3ECF7C81#32
  | 125 => 0x3F0186A2#32
  | 126 => 0x4024AF8B#32
  | 127 => 0x404E93AD#32
  | _ => 0#32

noncomputable abbrev lit0t0_610 (i : Nat) : BitVec 32 := match i % 128 with
  | 0 => 0x3F6B92FF#32
  | 1 => 0x3E994E9A#32
  | 2 => 0xBED8F14F#32
  | 3 => 0xBE904A43#32
  | 4 => 0x3D56728C#32
  | 5 => 0x3F29F9F5#32
  | 6 => 0xBEF12501#32
  | 7 => 0x40234DA9#32
  | 8 => 0x3FA0CF3E#32
  | 9 => 0xBEE0162C#32
  | 10 => 0x3F7A9F60#32
  | 11 => 0x3F8A6422#32
  | 12 => 0x3F86391E#32
  | 13 => 0x3F9680E4#32
  | 14 => 0xBE8C510A#32
  | 15 => 0x3F5EB62B#32
  | 16 => 0xBDB96A04#32
  | 17 => 0xBF732864#32
  | 18 => 0x3F9F5E16#32
  | 19 => 0x3F074AD0#32
  | 20 => 0xBF4FACC9#32
  | 21 => 0xBEB0A26C#32
  | 22 => 0x3F167BD2#32
  | 23 => 0x3FC0CF68#32
  | 24 => 0xBEF5D2D3#32
  | 25 => 0x3F24FFE1#32
  | 26 => 0xBEC14D08#32
  | 27 => 0xBF27BC23#32
  | 28 => 0x3E9832F5#32
  | 29 => 0x3E57CEE4#32
  | 30 => 0x3FDC1DDA#32
  | 31 => 0x3F380138#32
  | 32 => 0x3FF9E584#32
  | 33 => 0xBE956C2E#32
  | 34 => 0x3FA918AA#32
  | 35 => 0xBDB111B1#32
  | 36 => 0x3E9C1B4D#32
  | 37 => 0x4010462F#32
  | 38 => 0x409A5852#32
  | 39 => 0xBCD4739E#32
  | 40 => 0x3E94523A#32
  | 41 => 0x3E7AF6FB#32
  | 42 => 0xBF717A29#32
  | 43 => 0xBF53520E#32
  | 44 => 0xBF1D57FE#32
  | 45 => 0xBF591825#32
  | 46 => 0x4003A6FC#32
  | 47 => 0x3E828351#32
  | 48 => 0x3F117126#32
  | 49 => 0xBF165A69#32
  | 50 => 0x408AABEA#32
  | 51 => 0x3FED56CA#32
  | 52 => 0xBE703D86#32
  | 53 => 0x3FDF83F7#32
  | 54 => 0xBF12B8B7#32
  | 55 => 0xBF8F4BB9#32
  | 56 => 0x406ED7B8#32
  | 57 => 0x3F929049#32
  | 58 => 0x406E9F02#32
  | 59 => 0x3F89986E#32
  | 60 => 0xBE1864E9#32
  | 61 => 0x40468878#32
  | 62 => 0x40295F97#32
  | 63 => 0x40183C2C#32
  | 64 => 0x3F630AC8#32
  | 65 => 0x4019EBDE#32
  | 66 => 0xBF25A8DF#32
  | 67 => 0x3FAB78D2#32
  | 68 => 0x3E446A3B#32
  | 69 => 0xBEA1654F#32
  | 70 => 0x400E6E59#32
  | 71 => 0x4093A331#32
  | 72 => 0x3E90EE7C#32
  | 73 => 0x3FD5224C#32
  | 74 => 0x3DE8B892#32
  | 75 => 0xBF05D940#32
  | 76 => 0x400DB8FF#32
  | 77 => 0x3F219F2A#32
  | 78 => 0xBF3575E8#32
  | 79 => 0x3EBC2915#32
  | 80 => 0xBF1C7FE6#32
  | 81 => 0x3C14DCDB#32
  | 82 => 0x4023D959#32
  | 83 => 0xBF9076D6#32
  | 84 => 0x3ED77278#32
  | 85 => 0xBEC93DA5#32
  | 86 => 0x3F2618ED#32
  | 87 => 0x3D222C64#32
  | 88 => 0xBEF3914A#32
  | 89 => 0x3FC599B0#32
  | 90 => 0x3FBB9851#32
  | 91 => 0xBFA1140E#32
  | 92 => 0x3FA2EAC5#32
  | 93 => 0xBF301FCF#32
  | 94 => 0x4008C578#32
  | 95 => 0x3F7A7355#32
  | 96 => 0xBFD27B56#32
  | 97 => 0xBE0C0365#32
  | 98 => 0x3F8A99C9#32
  | 99 => 0x3EC364CE#32
  | 100 => 0x401498EE#32
  | 101 => 0xBF8552B4#32
  | 102 => 0x4087C7C8#32
  | 103 => 0x3F2C037C#32
  | 104 => 0x3FD2BDB4#32
  | 105 => 0x40242784#32
  | 106 => 0x4060E48E#32
  | 107 => 0x3DED414D#32
  | 108 => 0xBF1843EA#32
  | 109 => 0x3E7CB6BF#32
  | 110 => 0x3FDE8069#32
  | 111 => 0xBF434AB2#32
  | 112 => 0x3F5D827F#32
  | 113 => 0x3ECCECD6#32
  | 114 => 0xBFBFA662#32
  | 115 => 0xBE459D26#32
  | 116 => 0x4079F4DF#32
  | 117 => 0x3F29AA8E#32
  | 118 => 0x3DB7F6DF#32
  | 119 => 0x3F85E08E#32
  | 120 => 0x3EC93542#32
  | 121 => 0x3F982271#32
  | 122 => 0xBF0D72CA#32
  | 123 => 0x3E8C30DC#32
  | 124 => 0xBE80C675#32
  | 125 => 0xBF06C746#32
  | 126 => 0x3FCD116A#32
  | 127 => 0x40A4D54C#32
  | _ => 0#32

noncomputable abbrev lit0t0_611 (i : Nat) : BitVec 32 := match i % 128 with
  | 0 => 0xBF46142D#32
  | 1 => 0x3FBAB32A#32
  | 2 => 0xBF36826E#32
  | 3 => 0xBE86A317#32
  | 4 => 0x402217CF#32
  | 5 => 0x3FDCC1E7#32
  | 6 => 0x4055E613#32
  | 7 => 0x3E7D363B#32
  | 8 => 0xBF392111#32
  | 9 => 0xBF5E146D#32
  | 10 => 0x3E2D7744#32
  | 11 => 0xBF0882D0#32
  | 12 => 0x3FDD1CD0#32
  | 13 => 0xBD7A530C#32
  | 14 => 0x3D869E3E#32
  | 15 => 0x40345A74#32
  | 16 => 0xBF5DF161#32
  | 17 => 0x3E9BDA19#32
  | 18 => 0x3FB3F46F#32
  | 19 => 0x3D4110BB#32
  | 20 => 0x3D7D7276#32
  | 21 => 0xBF5D525A#32
  | 22 => 0x3F90CAA4#32
  | 23 => 0x3EEF2B42#32
  | 24 => 0x403DB85D#32
  | 25 => 0x405394BD#32
  | 26 => 0x3F1DC936#32
  | 27 => 0xBF397BB0#32
  | 28 => 0x3FD87E95#32
  | 29 => 0x3FDCC43B#32
  | 30 => 0xBF2B72C8#32
  | 31 => 0x3FCEA8AA#32
  | 32 => 0x3F0652AE#32
  | 33 => 0x3F074D53#32
  | 34 => 0xBE982BC8#32
  | 35 => 0xBF331B90#32
  | 36 => 0x3DFE0862#32
  | 37 => 0x405C5BE3#32
  | 38 => 0x3FF896A9#32
  | 39 => 0xBF50D4F2#32
  | 40 => 0x405956F3#32
  | 41 => 0xBE17BBA2#32
  | 42 => 0x4094001F#32
  | 43 => 0xBF3FB555#32
  | 44 => 0xBD575321#32
  | 45 => 0x3E808A16#32
  | 46 => 0xBF862390#32
  | 47 => 0x3E684458#32
  | 48 => 0xBE78508B#32
  | 49 => 0x3FAF207F#32
  | 50 => 0xBEAA28B4#32
  | 51 => 0xBFAD0D4F#32
  | 52 => 0x3FBBD008#32
  | 53 => 0x3F40FCC5#32
  | 54 => 0x3FCB1CA9#32
  | 55 => 0x3FB955CF#32
  | 56 => 0x3E849509#32
  | 57 => 0x3E9D2673#32
  | 58 => 0x3FD2276E#32
  | 59 => 0x3EA71A52#32
  | 60 => 0x40C46301#32
  | 61 => 0xBEFD7DF3#32
  | 62 => 0x3DF45C57#32
  | 63 => 0x3E22A9EC#32
  | 64 => 0xBF6EE50F#32
  | 65 => 0x3F58CA9B#32
  | 66 => 0xBE870FA8#32
  | 67 => 0x40444648#32
  | 68 => 0x3E3CCEEA#32
  | 69 => 0xBEB54355#32
  | 70 => 0x3FF0D21D#32
  | 71 => 0x3F594CD9#32
  | 72 => 0xBAC850CB#32
  | 73 => 0xBE522411#32
  | 74 => 0x3FD089CD#32
  | 75 => 0x3F5C3DBB#32
  | 76 => 0x3ECFE9E3#32
  | 77 => 0x3F437DE8#32
  | 78 => 0xBF125A5C#32
  | 79 => 0x3BFA34ED#32
  | 80 => 0x3F4D0BB5#32
  | 81 => 0x3FD59220#32
  | 82 => 0x3EB9FB7F#32
  | 83 => 0x3F95C892#32
  | 84 => 0xBF22616F#32
  | 85 => 0xBFC8F175#32
  | 86 => 0x4028071A#32
  | 87 => 0xBF1662C1#32
  | 88 => 0xBFD426D3#32
  | 89 => 0xBF0ADC82#32
  | 90 => 0x3F869CA6#32
  | 91 => 0x3FA51F5C#32
  | 92 => 0x3F8FA8CA#32
  | 93 => 0x3FA79B20#32
  | 94 => 0xBF50F054#32
  | 95 => 0xBE59AEA5#32
  | 96 => 0xBF55A834#32
  | 97 => 0x406FD334#32
  | 98 => 0x3FB651FC#32
  | 99 => 0x3F526F90#32
  | 100 => 0x3F3DCB5E#32
  | 101 => 0x3FAC98E2#32
  | 102 => 0x3F9A2BDF#32
  | 103 => 0x401C7BFC#32
  | 104 => 0xBF6AAB33#32
  | 105 => 0xC0083FA6#32
  | 106 => 0xBF8982D2#32
  | 107 => 0x3F1BDA71#32
  | 108 => 0x3F35C21E#32
  | 109 => 0x401CCCC8#32
  | 110 => 0x40155090#32
  | 111 => 0xBF8DD361#32
  | 112 => 0xBE17A2B5#32
  | 113 => 0x3F9CB2C7#32
  | 114 => 0xBE31B39D#32
  | 115 => 0x3EBEF903#32
  | 116 => 0x403AFCCC#32
  | 117 => 0x3FD6ABCA#32
  | 118 => 0x3FFAABB0#32
  | 119 => 0xBF2D9368#32
  | 120 => 0x3FF52EAD#32
  | 121 => 0x3FE3CE0C#32
  | 122 => 0xBF7D5896#32
  | 123 => 0x3F26CC60#32
  | 124 => 0x3F04A4A6#32
  | 125 => 0x3F7B6A6E#32
  | 126 => 0x3F1B7646#32
  | 127 => 0x3E704E92#32
  | _ => 0#32

noncomputable abbrev lit0t0_612 (i : Nat) : BitVec 32 := match i % 128 with
  | 0 => 0x3DEE7622#32
  | 1 => 0xBF127DD0#32
  | 2 => 0xBE62FD1C#32
  | 3 => 0xBEDE4D6C#32
  | 4 => 0x3EBE80E8#32
  | 5 => 0x3F1B0294#32
  | 6 => 0xBEFEF7E8#32
  | 7 => 0x3EBF9393#32
  | 8 => 0x3F4DBF54#32
  | 9 => 0x3DBB708E#32
  | 10 => 0x3EFB3A9C#32
  | 11 => 0xBF84D5A9#32
  | 12 => 0xBEFD3580#32
  | 13 => 0x3FC23417#32
  | 14 => 0xBF57E113#32
  | 15 => 0xBF4D2DC6#32
  | 16 => 0x3F2858EC#32
  | 17 => 0x3E6BADD9#32
  | 18 => 0x3FAC1606#32
  | 19 => 0xBDA0F2AA#32
  | 20 => 0x40572F4E#32
  | 21 => 0x4037954B#32
  | 22 => 0x3FC4A95B#32
  | 23 => 0xBEF09210#32
  | 24 => 0x3ED10D5A#32
  | 25 => 0xBEDD9915#32
  | 26 => 0xBF29EB7C#32
  | 27 => 0xBE0635BA#32
  | 28 => 0x3F84C25F#32
  | 29 => 0xBF4A9BB8#32
  | 30 => 0x3F928EF9#32
  | 31 => 0xBDEC0AF3#32
  | 32 => 0x4001DF30#32
  | 33 => 0xBF498DD2#32
  | 34 => 0x3E90F5D8#32
  | 35 => 0x3FDC0E92#32
  | 36 => 0x3F1E0B11#32
  | 37 => 0xBF8BDF10#32
  | 38 => 0x40055CDF#32
  | 39 => 0x3F32AAD3#32
  | 40 => 0xBD295CA8#32
  | 41 => 0x40E56BA4#32
  | 42 => 0xBF54ADE1#32
  | 43 => 0xBFCD6481#32
  | 44 => 0x3FDF6780#32
  | 45 => 0xBF9B47BE#32
  | 46 => 0x3FA5259A#32
  | 47 => 0xBE3D926F#32
  | 48 => 0x3F02E26C#32
  | 49 => 0x40004C85#32
  | 50 => 0x3EE474CC#32
  | 51 => 0x3E5B8F2F#32
  | 52 => 0x3F37D0B6#32
  | 53 => 0xBF3D5882#32
  | 54 => 0x3F3E26A8#32
  | 55 => 0x3FE48759#32
  | 56 => 0x3F9707B0#32
  | 57 => 0x401DCCC2#32
  | 58 => 0xBF2C0875#32
  | 59 => 0xBD7C261F#32
  | 60 => 0x3F868324#32
  | 61 => 0x3F8CA432#32
  | 62 => 0x3F682591#32
  | 63 => 0xBD94F978#32
  | 64 => 0xBF1E1E33#32
  | 65 => 0xBE2FFF9E#32
  | 66 => 0x3F0606A3#32
  | 67 => 0x400FD360#32
  | 68 => 0xBF869AAC#32
  | 69 => 0xBF5F8094#32
  | 70 => 0xBE38A80A#32
  | 71 => 0xBEEC8C39#32
  | 72 => 0xBE81DC77#32
  | 73 => 0xBE94F6C2#32
  | 74 => 0x40781039#32
  | 75 => 0xBFA2D283#32
  | 76 => 0x40540CB0#32
  | 77 => 0x3F6728FC#32
  | 78 => 0x3EE3699C#32
  | 79 => 0xBE2404A9#32
  | 80 => 0x3E3589BC#32
  | 81 => 0x3F8C0073#32
  | 82 => 0x3FFABBF2#32
  | 83 => 0x3EB0C526#32
  | 84 => 0x3F46B300#32
  | 85 => 0xBEED1D20#32
  | 86 => 0x3F1469C3#32
  | 87 => 0x3FCB5EB6#32
  | 88 => 0xBFCE24EB#32
  | 89 => 0xBDE179AB#32
  | 90 => 0x3ED348E4#32
  | 91 => 0x40C24295#32
  | 92 => 0x3FAF0396#32
  | 93 => 0xBF4E3382#32
  | 94 => 0x3F8699DF#32
  | 95 => 0x3D24E7E5#32
  | 96 => 0xBEAB7266#32
  | 97 => 0x3F4A6B38#32
  | 98 => 0xBF560636#32
  | 99 => 0x3E1823E9#32
  | 100 => 0xBE931E0A#32
  | 101 => 0x4063514F#32
  | 102 => 0x3FCB53AE#32
  | 103 => 0xBF10F909#32
  | 104 => 0x3F3E07B7#32
  | 105 => 0xBF55168C#32
  | 106 => 0x405C835D#32
  | 107 => 0x402BD793#32
  | 108 => 0x3E2713C1#32
  | 109 => 0x400BD4D4#32
  | 110 => 0xBF67BD16#32
  | 111 => 0xBF359D30#32
  | 112 => 0x3F56D533#32
  | 113 => 0xBF090E8A#32
  | 114 => 0xBFA1F8C9#32
  | 115 => 0xBDE59692#32
  | 116 => 0x3F6CBC8C#32
  | 117 => 0x3F44A4B7#32
  | 118 => 0x3EECEC2F#32
  | 119 => 0x40168975#32
  | 120 => 0x3F252069#32
  | 121 => 0xBEC52362#32
  | 122 => 0x4003C4A5#32
  | 123 => 0x3FBA458A#32
  | 124 => 0x3FD663C0#32
  | 125 => 0x3F80AFC2#32
  | 126 => 0xBF9C7B43#32
  | 127 => 0x3FB3196F#32
  | _ => 0#32

noncomputable abbrev lit0t0_613 (i : Nat) : BitVec 32 := match i % 128 with
  | 0 => 0x3F03E07C#32
  | 1 => 0x3F0B8895#32
  | 2 => 0x3D81B6B8#32
  | 3 => 0x403426B3#32
  | 4 => 0x3E7D942A#32
  | 5 => 0x3D1BDB2F#32
  | 6 => 0x3FB459C4#32
  | 7 => 0x3F4BE504#32
  | 8 => 0x3F9FD80D#32
  | 9 => 0xBF8861CD#32
  | 10 => 0xBD390385#32
  | 11 => 0x3FEB7C05#32
  | 12 => 0xBF5DF62A#32
  | 13 => 0xBF5B4D1F#32
  | 14 => 0xBF855735#32
  | 15 => 0x3FF4DD99#32
  | 16 => 0x3F279073#32
  | 17 => 0x3FDFEFAA#32
  | 18 => 0xBF9E286E#32
  | 19 => 0x3FA69187#32
  | 20 => 0x3E37E5A0#32
  | 21 => 0xBF90E46E#32
  | 22 => 0x40616434#32
  | 23 => 0x40607BD0#32
  | 24 => 0x403502E8#32
  | 25 => 0x3FC56169#32
  | 26 => 0x3FC12D15#32
  | 27 => 0x3F897A59#32
  | 28 => 0x4015063C#32
  | 29 => 0x3F12C661#32
  | 30 => 0xBF96EA58#32
  | 31 => 0xBE28F312#32
  | 32 => 0x400DFB90#32
  | 33 => 0x4003FE0C#32
  | 34 => 0x3E5D7E4C#32
  | 35 => 0xBF300649#32
  | 36 => 0x3EA1A235#32
  | 37 => 0x3F8006C9#32
  | 38 => 0xBF226FE1#32
  | 39 => 0xBF18CB0A#32
  | 40 => 0xBEA13D39#32
  | 41 => 0x3FAE1BFF#32
  | 42 => 0x3EC8F941#32
  | 43 => 0x3F0422C1#32
  | 44 => 0xBF6B046C#32
  | 45 => 0x3F48FA81#32
  | 46 => 0xBE9CD578#32
  | 47 => 0xBE0DAB9F#32
  | 48 => 0x3FA72651#32
  | 49 => 0x401E2B71#32
  | 50 => 0x3F0791A2#32
  | 51 => 0x3F1E2907#32
  | 52 => 0xBF791FFA#32
  | 53 => 0xBE6DCBF4#32
  | 54 => 0xBEAFC427#32
  | 55 => 0x4045E82B#32
  | 56 => 0xBF3C2E28#32
  | 57 => 0x3EEEC3F0#32
  | 58 => 0x3F45D32B#32
  | 59 => 0x3FA3BFA6#32
  | 60 => 0x3FAE3FBF#32
  | 61 => 0xBE049536#32
  | 62 => 0x3F73AED2#32
  | 63 => 0x3FFEAFFB#32
  | 64 => 0xBE98C741#32
  | 65 => 0x3FE8B83A#32
  | 66 => 0xBECED323#32
  | 67 => 0xBF1ED185#32
  | 68 => 0x3DE31157#32
  | 69 => 0xBDB1B2DC#32
  | 70 => 0x3DBC3F4D#32
  | 71 => 0x401BC57C#32
  | 72 => 0xBF0D324A#32
  | 73 => 0x3FE23348#32
  | 74 => 0x3F84BED2#32
  | 75 => 0x3D82B302#32
  | 76 => 0x3FC13912#32
  | 77 => 0x3FB579FE#32
  | 78 => 0x3EC0FA48#32
  | 79 => 0x3F2B7C29#32
  | 80 => 0x3E8DDA6A#32
  | 81 => 0x3ECBD921#32
  | 82 => 0xBE9B7552#32
  | 83 => 0x3F670609#32
  | 84 => 0x3F12305B#32
  | 85 => 0x40656A0B#32
  | 86 => 0xBF06E98A#32
  | 87 => 0xBF145FB1#32
  | 88 => 0x3F2F2375#32
  | 89 => 0x3F03DB16#32
  | 90 => 0x3E8C1056#32
  | 91 => 0x4032B3E4#32
  | 92 => 0x3FFE9A90#32
  | 93 => 0x3D7A0C69#32
  | 94 => 0xBFC06D2F#32
  | 95 => 0xBFC60F03#32
  | 96 => 0x409834F5#32
  | 97 => 0x3ED5CA9E#32
  | 98 => 0xBF1A803E#32
  | 99 => 0xBDBBEA01#32
  | 100 => 0xBF5D9700#32
  | 101 => 0x3E656017#32
  | 102 => 0xBF4A5355#32
  | 103 => 0x3E21C938#32
  | 104 => 0x3D3272A1#32
  | 105 => 0x3F0B7942#32
  | 106 => 0x3FCAC718#32
  | 107 => 0xBE04A642#32
  | 108 => 0x405CE70F#32
  | 109 => 0x3E498B63#32
  | 110 => 0x3C1E764A#32
  | 111 => 0xBFB8FF80#32
  | 112 => 0xBF8BE156#32
  | 113 => 0x3F9B81AC#32
  | 114 => 0x40149456#32
  | 115 => 0xBE7F4438#32
  | 116 => 0xBF260103#32
  | 117 => 0xBEFFB83E#32
  | 118 => 0xBDBF2AC1#32
  | 119 => 0x3EEA767A#32
  | 120 => 0x3FB1BF84#32
  | 121 => 0xBF10175A#32
  | 122 => 0xBDFED053#32
  | 123 => 0x3FA07F59#32
  | 124 => 0x401E58FD#32
  | 125 => 0xBFA859F4#32
  | 126 => 0x3F047C4D#32
  | 127 => 0x401C6C13#32
  | _ => 0#32

noncomputable abbrev lit0t0_614 (i : Nat) : BitVec 32 := match i % 128 with
  | 0 => 0x3F2A1068#32
  | 1 => 0x3FA81D12#32
  | 2 => 0x3E3B967A#32
  | 3 => 0x3D49EFC4#32
  | 4 => 0x3EBA78AC#32
  | 5 => 0xBE99A51F#32
  | 6 => 0x3E75B2F6#32
  | 7 => 0x3C7ADD29#32
  | 8 => 0x3E26D407#32
  | 9 => 0xBE192E79#32
  | 10 => 0x400230A0#32
  | 11 => 0xBE767CDB#32
  | 12 => 0xBF0AA538#32
  | 13 => 0x3EBD772B#32
  | 14 => 0x402671E1#32
  | 15 => 0x3F68F56F#32
  | 16 => 0x3F9D24A4#32
  | 17 => 0xBF01F143#32
  | 18 => 0x4022DEA9#32
  | 19 => 0x3EC51F1A#32
  | 20 => 0x3F16DC0E#32
  | 21 => 0xBEACA70F#32
  | 22 => 0x3E7AE399#32
  | 23 => 0x3F8F8C01#32
  | 24 => 0x3F97F843#32
  | 25 => 0xBE4E8B03#32
  | 26 => 0x3F4B1B77#32
  | 27 => 0xBF24998D#32
  | 28 => 0x3F3D1A94#32
  | 29 => 0x3F07A33A#32
  | 30 => 0xBFA46FF3#32
  | 31 => 0x3F31B61F#32
  | 32 => 0xBE3BF036#32
  | 33 => 0xBF61576B#32
  | 34 => 0xBF13BC42#32
  | 35 => 0x3D98619B#32
  | 36 => 0x403A1FFD#32
  | 37 => 0xBF68801A#32
  | 38 => 0xBE68BFDB#32
  | 39 => 0x3E8AA80C#32
  | 40 => 0xBEF43EAE#32
  | 41 => 0x3FEBC4B2#32
  | 42 => 0x3E868A0D#32
  | 43 => 0x401D0D91#32
  | 44 => 0x3F879CF4#32
  | 45 => 0x3EC9E3F6#32
  | 46 => 0x3FD4F2FE#32
  | 47 => 0xBE14E3DB#32
  | 48 => 0x3FDA0C67#32
  | 49 => 0x3DAC19C1#32
  | 50 => 0xBE025B34#32
  | 51 => 0xBE96EA7B#32
  | 52 => 0x3FE5B11F#32
  | 53 => 0xBF49B514#32
  | 54 => 0x3F9262F7#32
  | 55 => 0x401A0849#32
  | 56 => 0x3FE0C45F#32
  | 57 => 0x3FF8280F#32
  | 58 => 0x40AACA10#32
  | 59 => 0x3F1EFC65#32
  | 60 => 0x3ED35402#32
  | 61 => 0x3F7C3F9C#32
  | 62 => 0x3FDB6B84#32
  | 63 => 0xBF50B31D#32
  | 64 => 0x3F6C0F2B#32
  | 65 => 0x3B95628A#32
  | 66 => 0xBE12C31D#32
  | 67 => 0x3FBFC345#32
  | 68 => 0x3E72DA7B#32
  | 69 => 0x3F915FF0#32
  | 70 => 0xBF1C4A6F#32
  | 71 => 0x401C5FBC#32
  | 72 => 0x3EEB2046#32
  | 73 => 0x408C3FD0#32
  | 74 => 0x3FD52702#32
  | 75 => 0x3F790BF2#32
  | 76 => 0x3E4B570B#32
  | 77 => 0x3EE798CA#32
  | 78 => 0x402691FE#32
  | 79 => 0xBE536604#32
  | 80 => 0x3EED6C06#32
  | 81 => 0x3E2A0FEA#32
  | 82 => 0xBEC088F6#32
  | 83 => 0x3EE3677B#32
  | 84 => 0x3F643FDE#32
  | 85 => 0x3FE86CED#32
  | 86 => 0x3E652C01#32
  | 87 => 0x3F31416B#32
  | 88 => 0x3D91285A#32
  | 89 => 0x3D6DAB2C#32
  | 90 => 0x3F994223#32
  | 91 => 0x3F4B47DF#32
  | 92 => 0xBD04B620#32
  | 93 => 0xBED72A81#32
  | 94 => 0x3FABE88B#32
  | 95 => 0x3F056594#32
  | 96 => 0xBFBC35D6#32
  | 97 => 0xBF19D4FD#32
  | 98 => 0x3F822DBE#32
  | 99 => 0x3E4E5DC7#32
  | 100 => 0x3E0418D4#32
  | 101 => 0x3EDE91B4#32
  | 102 => 0xBF37A28B#32
  | 103 => 0xBD447C08#32
  | 104 => 0x3D915B9C#32
  | 105 => 0x3F6316C0#32
  | 106 => 0x3F03208A#32
  | 107 => 0x3F1B5EC2#32
  | 108 => 0xBE40FC39#32
  | 109 => 0x3EEA33C0#32
  | 110 => 0xC021B08B#32
  | 111 => 0x3EC94967#32
  | 112 => 0xBFA456B6#32
  | 113 => 0x3F4D22AA#32
  | 114 => 0x400211BE#32
  | 115 => 0x3F7E189C#32
  | 116 => 0x3E85CB97#32
  | 117 => 0xBFE5E92E#32
  | 118 => 0xBF140BDD#32
  | 119 => 0x3F5C869A#32
  | 120 => 0x3FD3BFEC#32
  | 121 => 0x3ED526B1#32
  | 122 => 0xBEB79FA5#32
  | 123 => 0xBF845736#32
  | 124 => 0xBE9ACAB0#32
  | 125 => 0x4003E229#32
  | 126 => 0xBEDFC5D9#32
  | 127 => 0x3E8D8694#32
  | _ => 0#32

noncomputable abbrev lit0t0_615 (i : Nat) : BitVec 32 := match i % 128 with
  | 0 => 0x4048FFC0#32
  | 1 => 0x400EC281#32
  | 2 => 0xBF971530#32
  | 3 => 0x3F846581#32
  | 4 => 0x404E4308#32
  | 5 => 0x3FEF1C44#32
  | 6 => 0xBE45BAAC#32
  | 7 => 0x3FEE78CE#32
  | 8 => 0xBF798CE8#32
  | 9 => 0x3D8B12D8#32
  | 10 => 0x401E8A9A#32
  | 11 => 0xBE5D59E5#32
  | 12 => 0x3F86DBE0#32
  | 13 => 0x40128A3A#32
  | 14 => 0xBF2C1173#32
  | 15 => 0x3FD6DC85#32
  | 16 => 0x3F4717BF#32
  | 17 => 0x3FF0F9C9#32
  | 18 => 0x3E7945A2#32
  | 19 => 0xBDC590DC#32
  | 20 => 0xBEB1C7F5#32
  | 21 => 0x3F78E273#32
  | 22 => 0x3F9EEEC3#32
  | 23 => 0xBCAE61F7#32
  | 24 => 0x3EFF4EEC#32
  | 25 => 0x3FBBE63A#32
  | 26 => 0x3FBCF25D#32
  | 27 => 0x3FA940E2#32
  | 28 => 0xBE62D20A#32
  | 29 => 0xBE254662#32
  | 30 => 0x3F31BC9E#32
  | 31 => 0x3F89437E#32
  | 32 => 0x3E53551F#32
  | 33 => 0x3F635B7E#32
  | 34 => 0x40411506#32
  | 35 => 0xBF111B12#32
  | 36 => 0x40C0F31D#32
  | 37 => 0x3F8D2839#32
  | 38 => 0xBF318D7B#32
  | 39 => 0x3FAFB0D3#32
  | 40 => 0x401CA5B7#32
  | 41 => 0xBF755D04#32
  | 42 => 0x3ECC86FF#32
  | 43 => 0xBF25745A#32
  | 44 => 0x3F8C35E2#32
  | 45 => 0xBE3CEEEF#32
  | 46 => 0x3F5BD89E#32
  | 47 => 0x3F920148#32
  | 48 => 0x3FD2490B#32
  | 49 => 0x3FBE9F0E#32
  | 50 => 0xBEF19022#32
  | 51 => 0xBCB8539D#32
  | 52 => 0x3EE8AB90#32
  | 53 => 0x3C682A1E#32
  | 54 => 0x3F4A870A#32
  | 55 => 0xBE4DBBC9#32
  | 56 => 0xBE467388#32
  | 57 => 0x3F860B33#32
  | 58 => 0x4088AC2C#32
  | 59 => 0x405CACA4#32
  | 60 => 0x40D63D6C#32
  | 61 => 0x3FF34511#32
  | 62 => 0xBF15AFE6#32
  | 63 => 0x3F430258#32
  | 64 => 0x409D1CA7#32
  | 65 => 0x3FB81CC8#32
  | 66 => 0x3EF71E08#32
  | 67 => 0x3E74CBE2#32
  | 68 => 0x3D1E3A24#32
  | 69 => 0xBFAD8DE4#32
  | 70 => 0xBF09BCDC#32
  | 71 => 0x3D001035#32
  | 72 => 0xBFB5CD8C#32
  | 73 => 0x3F0EF71A#32
  | 74 => 0x40271A9C#32
  | 75 => 0xBD017BFE#32
  | 76 => 0xBECA27B0#32
  | 77 => 0x3EE7E244#32
  | 78 => 0xBFACED57#32
  | 79 => 0xBF48E774#32
  | 80 => 0xBEBDB34C#32
  | 81 => 0x3EC602CE#32
  | 82 => 0x3F590CED#32
  | 83 => 0x3DF4B5FE#32
  | 84 => 0xBE952F03#32
  | 85 => 0x3F6AE131#32
  | 86 => 0x400ACCBD#32
  | 87 => 0x3E298B0D#32
  | 88 => 0xBF65F309#32
  | 89 => 0x3F96CD33#32
  | 90 => 0x3EC9F69C#32
  | 91 => 0x3EDF48B5#32
  | 92 => 0x3F40BC86#32
  | 93 => 0x3EAE3050#32
  | 94 => 0x3EF3604B#32
  | 95 => 0x408E1C35#32
  | 96 => 0x3DE1FBCF#32
  | 97 => 0xBF13A8F7#32
  | 98 => 0xBF9B2515#32
  | 99 => 0x3F8C5179#32
  | 100 => 0xBEDACBC8#32
  | 101 => 0x40305E49#32
  | 102 => 0x3E690DF2#32
  | 103 => 0x3E94B971#32
  | 104 => 0x3FBA576E#32
  | 105 => 0x3F8E36FD#32
  | 106 => 0x402FA118#32
  | 107 => 0xBDFAF8D6#32
  | 108 => 0xBFD2CA1D#32
  | 109 => 0x3F9ACBC2#32
  | 110 => 0x3E8D7FF2#32
  | 111 => 0x40211056#32
  | 112 => 0xBF425011#32
  | 113 => 0xBF8B3D7E#32
  | 114 => 0x3FDAA66E#32
  | 115 => 0x3E90F115#32
  | 116 => 0x401E22B6#32
  | 117 => 0x3E00B7D5#32
  | 118 => 0x3D5EF84D#32
  | 119 => 0x402CA003#32
  | 120 => 0xBE91B051#32
  | 121 => 0x401C2129#32
  | 122 => 0xBF6D7FFA#32
  | 123 => 0x3F765B6F#32
  | 124 => 0x40992D2E#32
  | 125 => 0x3DEE1D09#32
  | 126 => 0xBE3897CE#32
  | 127 => 0xBFBBAF9D#32
  | _ => 0#32

noncomputable abbrev lit0t0_616 (i : Nat) : BitVec 32 := match i % 128 with
  | 0 => 0x3CC97A19#32
  | 1 => 0xBF972648#32
  | 2 => 0x40C05DF4#32
  | 3 => 0x3F7F04E4#32
  | 4 => 0x3F928399#32
  | 5 => 0xBEF80A92#32
  | 6 => 0xBD0DEC3A#32
  | 7 => 0x3F7C1785#32
  | 8 => 0x3E2454BC#32
  | 9 => 0x3F840683#32
  | 10 => 0x3E9C10B6#32
  | 11 => 0x3F515610#32
  | 12 => 0x3FBC760D#32
  | 13 => 0x3F9C804C#32
  | 14 => 0x4088ADA9#32
  | 15 => 0x3F031B2C#32
  | 16 => 0xBF7799C5#32
  | 17 => 0xBFB04D40#32
  | 18 => 0x3F142405#32
  | 19 => 0xBEC1E8B8#32
  | 20 => 0xBF76171D#32
  | 21 => 0xBF58674E#32
  | 22 => 0x402707E8#32
  | 23 => 0xBF50DF5A#32
  | 24 => 0x3E1B1048#32
  | 25 => 0xBF2DA741#32
  | 26 => 0xBE7E712C#32
  | 27 => 0x3FD8F356#32
  | 28 => 0x3F0C58C0#32
  | 29 => 0xBF2D4317#32
  | 30 => 0xBF5DAFA6#32
  | 31 => 0x3ED0A238#32
  | 32 => 0xBF982C8C#32
  | 33 => 0x3FB28507#32
  | 34 => 0x3DC78ADE#32
  | 35 => 0x3E1FA3EF#32
  | 36 => 0x3F6DD44A#32
  | 37 => 0x3F429B18#32
  | 38 => 0xBF5C6392#32
  | 39 => 0xBDB76411#32
  | 40 => 0x3F7AFA40#32
  | 41 => 0x3E52C639#32
  | 42 => 0x3FDC1C94#32
  | 43 => 0x405DBD1C#32
  | 44 => 0x3F6D7D08#32
  | 45 => 0x3F053B76#32
  | 46 => 0x405D7F41#32
  | 47 => 0xBF0D77FB#32
  | 48 => 0x3F897BA2#32
  | 49 => 0xBFB1FC4C#32
  | 50 => 0x3FA5DA07#32
  | 51 => 0x3F7110E8#32
  | 52 => 0xBF705EDD#32
  | 53 => 0x3B3D8718#32
  | 54 => 0xBE48D29A#32
  | 55 => 0x3E8B9174#32
  | 56 => 0x3F3FF315#32
  | 57 => 0x3F2EBB03#32
  | 58 => 0xBFB7AC53#32
  | 59 => 0x403D269C#32
  | 60 => 0xBEF00070#32
  | 61 => 0x3EABFCDB#32
  | 62 => 0x3F73E797#32
  | 63 => 0xBFA02DC8#32
  | 64 => 0x40908C98#32
  | 65 => 0x3F4C002A#32
  | 66 => 0x3F7C67FC#32
  | 67 => 0xBF57B583#32
  | 68 => 0x3F4094A1#32
  | 69 => 0xBF4707CA#32
  | 70 => 0x4009D7AF#32
  | 71 => 0x3EA40576#32
  | 72 => 0x40229C2A#32
  | 73 => 0x406C9AC4#32
  | 74 => 0x3F9FE86B#32
  | 75 => 0x3FFEDE07#32
  | 76 => 0x3EBA92AC#32
  | 77 => 0x3F46F2D1#32
  | 78 => 0x3F424B6F#32
  | 79 => 0xBF33896B#32
  | 80 => 0xBEF4101B#32
  | 81 => 0x3FED8EF8#32
  | 82 => 0x3F9096AA#32
  | 83 => 0xBDB98A19#32
  | 84 => 0x3F9D1265#32
  | 85 => 0xBEE64796#32
  | 86 => 0x3FEE8202#32
  | 87 => 0x408F6134#32
  | 88 => 0x3E544B94#32
  | 89 => 0x40B19E27#32
  | 90 => 0xBF6B62E2#32
  | 91 => 0x3EDACAEB#32
  | 92 => 0x3FAB4A83#32
  | 93 => 0x3E928726#32
  | 94 => 0xBE1B58AD#32
  | 95 => 0xBF45026D#32
  | 96 => 0xBE2DC144#32
  | 97 => 0x3FF05F31#32
  | 98 => 0x3EB131A7#32
  | 99 => 0xBE78D80F#32
  | 100 => 0x408D30C8#32
  | 101 => 0x3F3A37F0#32
  | 102 => 0xBF6E340C#32
  | 103 => 0x3FC01B66#32
  | 104 => 0x3F3EFD03#32
  | 105 => 0x400775DE#32
  | 106 => 0x3DB38581#32
  | 107 => 0x3FFABEC1#32
  | 108 => 0xBCB40661#32
  | 109 => 0xBF95B5AE#32
  | 110 => 0xBE4879D2#32
  | 111 => 0xBF1C21EA#32
  | 112 => 0x3F956405#32
  | 113 => 0x40090CDE#32
  | 114 => 0x40016C36#32
  | 115 => 0x3FEC8F79#32
  | 116 => 0xBF1B7EC6#32
  | 117 => 0x3F0CA382#32
  | 118 => 0xBE899EA7#32
  | 119 => 0x3F4A25C1#32
  | 120 => 0x3F3F4A61#32
  | 121 => 0xBEC2E0F7#32
  | 122 => 0x3FB8AB22#32
  | 123 => 0x3F2AD326#32
  | 124 => 0xBEC1CCB3#32
  | 125 => 0xBF3A4228#32
  | 126 => 0x3FE631D1#32
  | 127 => 0x403E0311#32
  | _ => 0#32

noncomputable abbrev lit0t0_617 (i : Nat) : BitVec 32 := match i % 128 with
  | 0 => 0xBE9F0864#32
  | 1 => 0x3FE1CBC2#32
  | 2 => 0x3F5BDB76#32
  | 3 => 0xBF86A5CE#32
  | 4 => 0x3F8D0A41#32
  | 5 => 0xBF46A7B5#32
  | 6 => 0xBF9B2A35#32
  | 7 => 0xBF25A06C#32
  | 8 => 0x3DA56B9D#32
  | 9 => 0x3FB361AD#32
  | 10 => 0x3F375366#32
  | 11 => 0xBF7ECDA4#32
  | 12 => 0xBF898BC0#32
  | 13 => 0x4002147F#32
  | 14 => 0x3F482026#32
  | 15 => 0x3F8F1622#32
  | 16 => 0x3FAA80B8#32
  | 17 => 0x3ECFB2EA#32
  | 18 => 0x3EF9CF9C#32
  | 19 => 0x3B3EE319#32
  | 20 => 0x4004A1F3#32
  | 21 => 0xBEB9B0B1#32
  | 22 => 0x40A89927#32
  | 23 => 0x3FA79B0E#32
  | 24 => 0x3F50B777#32
  | 25 => 0x3FDB951E#32
  | 26 => 0x40142F76#32
  | 27 => 0x3FBA769C#32
  | 28 => 0x3EFB0D8E#32
  | 29 => 0xBF48F5CA#32
  | 30 => 0xBF5E9114#32
  | 31 => 0x3F86E7FD#32
  | 32 => 0x3F3A0637#32
  | 33 => 0x3FA2AC69#32
  | 34 => 0x3D536D94#32
  | 35 => 0xBDCFD8D6#32
  | 36 => 0x404745E0#32
  | 37 => 0x3F018054#32
  | 38 => 0xBE9F28BE#32
  | 39 => 0xBF05D40C#32
  | 40 => 0xBF75E031#32
  | 41 => 0x3F8AF7FD#32
  | 42 => 0xBDE92DCF#32
  | 43 => 0x3F16C3E6#32
  | 44 => 0x3FCE8ECE#32
  | 45 => 0x3FD66CE1#32
  | 46 => 0x3ED95A35#32
  | 47 => 0xBFA93CD2#32
  | 48 => 0x40340366#32
  | 49 => 0x3E80BBAC#32
  | 50 => 0x3E38DF13#32
  | 51 => 0xBF63E428#32
  | 52 => 0xBDFC22D4#32
  | 53 => 0x3FB3142A#32
  | 54 => 0x3F227BDA#32
  | 55 => 0x3F756032#32
  | 56 => 0x3F84BC63#32
  | 57 => 0x402CC236#32
  | 58 => 0xBE882DBD#32
  | 59 => 0xBF1FC9D1#32
  | 60 => 0xBF12B749#32
  | 61 => 0x3FCBB01A#32
  | 62 => 0x40042E61#32
  | 63 => 0x3F3837B2#32
  | 64 => 0xBDC5E6B8#32
  | 65 => 0xBF5C8062#32
  | 66 => 0xBD7FFBEC#32
  | 67 => 0x40268122#32
  | 68 => 0xBF403464#32
  | 69 => 0x3F1D34A4#32
  | 70 => 0xBF4593F2#32
  | 71 => 0x3FA0C053#32
  | 72 => 0x3EA9B029#32
  | 73 => 0x3E2F71D1#32
  | 74 => 0xBF68335C#32
  | 75 => 0xBE8532C1#32
  | 76 => 0x3F0CB02F#32
  | 77 => 0x3F7D2C50#32
  | 78 => 0xBF2780C7#32
  | 79 => 0x3E9F1E39#32
  | 80 => 0x3F440220#32
  | 81 => 0x3FA73C9C#32
  | 82 => 0xBF9C8675#32
  | 83 => 0x3F79C872#32
  | 84 => 0x3F261EA4#32
  | 85 => 0x3F3B2DCD#32
  | 86 => 0xBFBA0738#32
  | 87 => 0x3FB843D8#32
  | 88 => 0x3FA54E12#32
  | 89 => 0x4032E80C#32
  | 90 => 0x3F10E8A0#32
  | 91 => 0xBF2149CC#32
  | 92 => 0x3E3F5BDD#32
  | 93 => 0x3F8DC1A5#32
  | 94 => 0x3F59AFC9#32
  | 95 => 0x4069C3A3#32
  | 96 => 0xC008E02B#32
  | 97 => 0x3FD79596#32
  | 98 => 0x3FEB819E#32
  | 99 => 0xBF526A95#32
  | 100 => 0xBE918219#32
  | 101 => 0x3E78FED4#32
  | 102 => 0x3DE4AC8B#32
  | 103 => 0x3EAE2DDB#32
  | 104 => 0xBF49FF3D#32
  | 105 => 0xBF06BFA4#32
  | 106 => 0x3EBD4995#32
  | 107 => 0xBF1296BE#32
  | 108 => 0x3FDDDC13#32
  | 109 => 0xBE3395AC#32
  | 110 => 0x3FFD621B#32
  | 111 => 0x403CA518#32
  | 112 => 0xBF0D8BCA#32
  | 113 => 0x3F48C5F2#32
  | 114 => 0x3F20FAEE#32
  | 115 => 0xBFAED8FD#32
  | 116 => 0x3FF85A81#32
  | 117 => 0x40098947#32
  | 118 => 0xBE0FE1C4#32
  | 119 => 0x3FBC3F8E#32
  | 120 => 0xBF1C072E#32
  | 121 => 0x3EAA1A98#32
  | 122 => 0x3FBD3879#32
  | 123 => 0x3E00FFA3#32
  | 124 => 0x3DC8303F#32
  | 125 => 0xBE65D58C#32
  | 126 => 0x3E3A4CB3#32
  | 127 => 0xBF08187E#32
  | _ => 0#32

noncomputable abbrev lit0t0_618 (i : Nat) : BitVec 32 := match i % 128 with
  | 0 => 0xBFCAE13C#32
  | 1 => 0xBFDD75BE#32
  | 2 => 0x3FE75012#32
  | 3 => 0xBEDE55C3#32
  | 4 => 0x3FF7FE9B#32
  | 5 => 0x3FF2501D#32
  | 6 => 0x3E812A46#32
  | 7 => 0x3DCC048D#32
  | 8 => 0x3D907FB6#32
  | 9 => 0x3ED86B0A#32
  | 10 => 0x40C760FB#32
  | 11 => 0xBD933BB6#32
  | 12 => 0xBD8D3C05#32
  | 13 => 0x3F652CE2#32
  | 14 => 0x3FC45D65#32
  | 15 => 0xBDC4FCA8#32
  | 16 => 0xBF8F4A70#32
  | 17 => 0x3FC69BEE#32
  | 18 => 0xBEA8DB19#32
  | 19 => 0x3F8449AF#32
  | 20 => 0x3F3DBA56#32
  | 21 => 0xBF96E74E#32
  | 22 => 0x3EE88A66#32
  | 23 => 0x3E271D94#32
  | 24 => 0x3EBDA801#32
  | 25 => 0x3EF324B8#32
  | 26 => 0xBF1408C3#32
  | 27 => 0x3F5591F0#32
  | 28 => 0x3FFC5C4F#32
  | 29 => 0x4010D33D#32
  | 30 => 0x3EC3BFF4#32
  | 31 => 0x401A67D8#32
  | 32 => 0x4080DAF0#32
  | 33 => 0xBF00A065#32
  | 34 => 0x3F098924#32
  | 35 => 0x3F9E3D90#32
  | 36 => 0x3FCDDFA5#32
  | 37 => 0x3F43FAA2#32
  | 38 => 0xBEEDA000#32
  | 39 => 0x3FD58444#32
  | 40 => 0x40A95A60#32
  | 41 => 0xBF92A680#32
  | 42 => 0xBEF23E61#32
  | 43 => 0xBF3E9E4E#32
  | 44 => 0xBD9BA9F0#32
  | 45 => 0x3D5AC1F1#32
  | 46 => 0x3E18BC36#32
  | 47 => 0x3FCAA7D8#32
  | 48 => 0x3FA4028B#32
  | 49 => 0xBF3E2430#32
  | 50 => 0xBF433BDC#32
  | 51 => 0xBF36B72D#32
  | 52 => 0x3E1ECCB1#32
  | 53 => 0xBF4A6D9D#32
  | 54 => 0xBF2D256A#32
  | 55 => 0x3F99BC9A#32
  | 56 => 0x3F7B79E8#32
  | 57 => 0xBEA42ED7#32
  | 58 => 0xBF95BEC4#32
  | 59 => 0x4019CE56#32
  | 60 => 0xBEA40F20#32
  | 61 => 0xBF3634E7#32
  | 62 => 0xBFBBA810#32
  | 63 => 0x3FB84E75#32
  | 64 => 0x3F04E032#32
  | 65 => 0x3EEA5300#32
  | 66 => 0xBFC0840C#32
  | 67 => 0x402F6E3F#32
  | 68 => 0x3FD468FE#32
  | 69 => 0xBF5FC52E#32
  | 70 => 0xBDC17CE2#32
  | 71 => 0xBEA9A8FE#32
  | 72 => 0xBF7CFB96#32
  | 73 => 0x3DEE72DE#32
  | 74 => 0xBF0EE968#32
  | 75 => 0xBFA856D2#32
  | 76 => 0x3EB9A9AC#32
  | 77 => 0xBDDFFA09#32
  | 78 => 0xBFB60350#32
  | 79 => 0x3FCEEE3C#32
  | 80 => 0x3F0002AA#32
  | 81 => 0x3FDB48D0#32
  | 82 => 0xBF3219FF#32
  | 83 => 0x3F068ED7#32
  | 84 => 0x4014148F#32
  | 85 => 0xBF41D263#32
  | 86 => 0xBF8B1017#32
  | 87 => 0x3EA9D8DA#32
  | 88 => 0x3F1429F0#32
  | 89 => 0x40177ED4#32
  | 90 => 0x4086FA5F#32
  | 91 => 0x3DE55C66#32
  | 92 => 0x3F319E92#32
  | 93 => 0x3F9D7C90#32
  | 94 => 0xBF4A0DD6#32
  | 95 => 0x3F6FE142#32
  | 96 => 0xBF65A527#32
  | 97 => 0x40916007#32
  | 98 => 0xBE9ED6B3#32
  | 99 => 0x3F13432D#32
  | 100 => 0x40835908#32
  | 101 => 0x3E759A18#32
  | 102 => 0x402A5BEA#32
  | 103 => 0x403B7828#32
  | 104 => 0xBF562800#32
  | 105 => 0x3EAFAE72#32
  | 106 => 0xBF793522#32
  | 107 => 0xBF7E0E32#32
  | 108 => 0xBF5012F4#32
  | 109 => 0xBE59E673#32
  | 110 => 0x3F832568#32
  | 111 => 0xBEB12A6F#32
  | 112 => 0xBFB9174E#32
  | 113 => 0x3F61C578#32
  | 114 => 0x3E24361E#32
  | 115 => 0xBE0252B4#32
  | 116 => 0x3FDC8E70#32
  | 117 => 0xBE366509#32
  | 118 => 0xBF88ED1A#32
  | 119 => 0x401D033E#32
  | 120 => 0xBF8ADAB1#32
  | 121 => 0x3F03E472#32
  | 122 => 0xBF2CB010#32
  | 123 => 0x3F8262DD#32
  | 124 => 0x3F9E0AAB#32
  | 125 => 0xBEC7E39F#32
  | 126 => 0x3F4263D8#32
  | 127 => 0xBC6B7FA3#32
  | _ => 0#32

noncomputable abbrev lit0t0_619 (i : Nat) : BitVec 32 := match i % 128 with
  | 0 => 0x3F6B72F0#32
  | 1 => 0x3D69E95E#32
  | 2 => 0xBEBE92BA#32
  | 3 => 0x3FDEFA42#32
  | 4 => 0x3F1B24DE#32
  | 5 => 0xBF56B9D8#32
  | 6 => 0x3E80AC31#32
  | 7 => 0x3FE7D0AC#32
  | 8 => 0x3FBABD6C#32
  | 9 => 0x405E5103#32
  | 10 => 0xBEFC48D4#32
  | 11 => 0x3FDAB682#32
  | 12 => 0x40AE9840#32
  | 13 => 0x3F8E3CED#32
  | 14 => 0xBED8D2C5#32
  | 15 => 0xBE961A83#32
  | 16 => 0xBF2983E2#32
  | 17 => 0x3FD4FED5#32
  | 18 => 0xBF607D74#32
  | 19 => 0x3F0FF9C8#32
  | 20 => 0x3E8112DE#32
  | 21 => 0x3EDC30F1#32
  | 22 => 0x3D94E9F8#32
  | 23 => 0x3FE56CD5#32
  | 24 => 0xBFA00AA8#32
  | 25 => 0x4031A019#32
  | 26 => 0xBE7FA4CB#32
  | 27 => 0xBF90DBB1#32
  | 28 => 0x3F01FC26#32
  | 29 => 0x3FC1D9CA#32
  | 30 => 0x3F5FE3A8#32
  | 31 => 0x3CA73566#32
  | 32 => 0xBE2778CA#32
  | 33 => 0x3EDC55B0#32
  | 34 => 0xBD1A7BFE#32
  | 35 => 0x4022DC6D#32
  | 36 => 0x401904B4#32
  | 37 => 0x3F9A2BB7#32
  | 38 => 0x400C9A41#32
  | 39 => 0x3FC752D7#32
  | 40 => 0xBD5B3B81#32
  | 41 => 0xBE44F192#32
  | 42 => 0x4029550A#32
  | 43 => 0x401CDE35#32
  | 44 => 0x3FF43470#32
  | 45 => 0x3F12A7C5#32
  | 46 => 0xBF2D293F#32
  | 47 => 0x3F3DCF03#32
  | 48 => 0x3FEE677F#32
  | 49 => 0x3F0A02D2#32
  | 50 => 0x40A1C9F6#32
  | 51 => 0x3F75B90C#32
  | 52 => 0xBEB716EA#32
  | 53 => 0x3F02192E#32
  | 54 => 0xBF3D6D62#32
  | 55 => 0x3F9383B7#32
  | 56 => 0x3FB7CF5C#32
  | 57 => 0xBFAEE91E#32
  | 58 => 0xBF27AC9C#32
  | 59 => 0xBD01035C#32
  | 60 => 0xBF88A855#32
  | 61 => 0xBF0A0474#32
  | 62 => 0x3FE3A21A#32
  | 63 => 0x3D887A43#32
  | 64 => 0x3FF38270#32
  | 65 => 0x3EA2B7BB#32
  | 66 => 0xBEB272B0#32
  | 67 => 0xBC929AE9#32
  | 68 => 0x3F10052C#32
  | 69 => 0xBCCEF93C#32
  | 70 => 0xBF2A891D#32
  | 71 => 0xBF0D2868#32
  | 72 => 0xBF7691C2#32
  | 73 => 0x3C1D0F9B#32
  | 74 => 0xBEB5094E#32
  | 75 => 0x3F2839AA#32
  | 76 => 0x3EA5626F#32
  | 77 => 0xBF2B7AB5#32
  | 78 => 0xBEEE49D2#32
  | 79 => 0x3FF0F2D3#32
  | 80 => 0x4004ADDD#32
  | 81 => 0x3B122EB5#32
  | 82 => 0xBE27777E#32
  | 83 => 0x3FEF09E8#32
  | 84 => 0x3E31E6E2#32
  | 85 => 0x40275CF2#32
  | 86 => 0x3FCAFA7D#32
  | 87 => 0x403DAB4B#32
  | 88 => 0x3E320B6F#32
  | 89 => 0xBFD48160#32
  | 90 => 0xBE9053AA#32
  | 91 => 0xBF3B4A0D#32
  | 92 => 0xBF491949#32
  | 93 => 0x3F191FB8#32
  | 94 => 0x3EC2FA54#32
  | 95 => 0x3CFECFD4#32
  | 96 => 0x3FF3D542#32
  | 97 => 0x3FDC922E#32
  | 98 => 0xBF9B634B#32
  | 99 => 0xBE14BA45#32
  | 100 => 0x3DDEB67E#32
  | 101 => 0x3E656D22#32
  | 102 => 0xBE5C8B74#32
  | 103 => 0xBF065D06#32
  | 104 => 0xBE3C4DE1#32
  | 105 => 0x3FA1C919#32
  | 106 => 0x3FC9C792#32
  | 107 => 0x3F990B76#32
  | 108 => 0x3F6795C8#32
  | 109 => 0x3FE0779A#32
  | 110 => 0xBF21DA10#32
  | 111 => 0xBDABA5C7#32
  | 112 => 0x404930F3#32
  | 113 => 0x4026D809#32
  | 114 => 0x408115D9#32
  | 115 => 0xBDE50041#32
  | 116 => 0x3FD74F7A#32
  | 117 => 0xBE9DD777#32
  | 118 => 0x40090F77#32
  | 119 => 0xBF875E4A#32
  | 120 => 0xBE8991D7#32
  | 121 => 0x4057B325#32
  | 122 => 0xBF9D3CA8#32
  | 123 => 0x3FA38520#32
  | 124 => 0xBF2FBDD1#32
  | 125 => 0xBE985CD9#32
  | 126 => 0xBF1623EA#32
  | 127 => 0xBF90B362#32
  | _ => 0#32

noncomputable abbrev lit0t0_620 (i : Nat) : BitVec 32 := match i % 128 with
  | 0 => 0x405F7788#32
  | 1 => 0x3F83DBC6#32
  | 2 => 0xBE1C9C03#32
  | 3 => 0xBF0A9D69#32
  | 4 => 0xBD23E639#32
  | 5 => 0x3F546A1C#32
  | 6 => 0xBF00FCBF#32
  | 7 => 0x3E3699DC#32
  | 8 => 0x40178C4F#32
  | 9 => 0x403EF208#32
  | 10 => 0x40115F75#32
  | 11 => 0x3FAA5612#32
  | 12 => 0xBEE35922#32
  | 13 => 0xBF5D6C20#32
  | 14 => 0x400A2BD2#32
  | 15 => 0x400DE8F4#32
  | 16 => 0x3FBBE4DD#32
  | 17 => 0x3E040027#32
  | 18 => 0xBE8A327D#32
  | 19 => 0xBF6CC0F8#32
  | 20 => 0x3FE5A5A3#32
  | 21 => 0x3E525DEA#32
  | 22 => 0x3F5C9B17#32
  | 23 => 0x3D89DD43#32
  | 24 => 0x3F4604B0#32
  | 25 => 0xBF4058F2#32
  | 26 => 0x403AFC57#32
  | 27 => 0xBEF763D6#32
  | 28 => 0x3F20A108#32
  | 29 => 0xBF0C3E7D#32
  | 30 => 0xBF097B56#32
  | 31 => 0x3EE9E332#32
  | 32 => 0x3FBA8F31#32
  | 33 => 0xBFA6242A#32
  | 34 => 0x3ED743A1#32
  | 35 => 0x3EF4348C#32
  | 36 => 0x3ED99209#32
  | 37 => 0x3FABCC17#32
  | 38 => 0xBE6C8691#32
  | 39 => 0x3DD3416A#32
  | 40 => 0x3CD31854#32
  | 41 => 0x4083A517#32
  | 42 => 0x3F75A8B7#32
  | 43 => 0x3F744B4F#32
  | 44 => 0xBEC69077#32
  | 45 => 0xBE8DE4D8#32
  | 46 => 0x3FD3C8BA#32
  | 47 => 0x3F423890#32
  | 48 => 0x4012A41A#32
  | 49 => 0x3EEF08CA#32
  | 50 => 0xBDA2DA79#32
  | 51 => 0xBDEE61F3#32
  | 52 => 0xBFAA9DFD#32
  | 53 => 0x3D9F0750#32
  | 54 => 0x404FCDE2#32
  | 55 => 0xBEEB9360#32
  | 56 => 0xBFB9AE53#32
  | 57 => 0x3EC846A6#32
  | 58 => 0xBF91C242#32
  | 59 => 0x3EADA904#32
  | 60 => 0x3FEF57CB#32
  | 61 => 0x3E1FD818#32
  | 62 => 0x400C9A8D#32
  | 63 => 0xBF510ABB#32
  | 64 => 0x4075FB9F#32
  | 65 => 0x3FD3D9C0#32
  | 66 => 0x40104FDC#32
  | 67 => 0x3EC38356#32
  | 68 => 0x3E396FBD#32
  | 69 => 0x40B52B4C#32
  | 70 => 0xBEAFF343#32
  | 71 => 0xBF4FDE3F#32
  | 72 => 0xBF4B476C#32
  | 73 => 0x3FA5A516#32
  | 74 => 0xBD144F05#32
  | 75 => 0x3F2A2E40#32
  | 76 => 0xBF12B25A#32
  | 77 => 0x3FEC4135#32
  | 78 => 0xBF2EEB33#32
  | 79 => 0x3F32697B#32
  | 80 => 0x3FB0F7EE#32
  | 81 => 0x3E6DEF86#32
  | 82 => 0xBECE70C4#32
  | 83 => 0xBF7D8DAF#32
  | 84 => 0x3E3FA650#32
  | 85 => 0xBF60CAD2#32
  | 86 => 0x3E4E93E5#32
  | 87 => 0x3F25A610#32
  | 88 => 0x3F849213#32
  | 89 => 0xBE616F19#32
  | 90 => 0xBF7158D8#32
  | 91 => 0x3FB8C89B#32
  | 92 => 0x40C4F8E4#32
  | 93 => 0xBF8B6A6D#32
  | 94 => 0x4090D13A#32
  | 95 => 0x3F6F7BC7#32
  | 96 => 0xBE5512E7#32
  | 97 => 0x3F01EF35#32
  | 98 => 0x3E343185#32
  | 99 => 0x3F3707AF#32
  | 100 => 0x4081A149#32
  | 101 => 0xBE51B497#32
  | 102 => 0x3DB17ADA#32
  | 103 => 0x3FA303F3#32
  | 104 => 0x3EEFF2D0#32
  | 105 => 0x3F141A42#32
  | 106 => 0xBF08C320#32
  | 107 => 0x3FF6CCD8#32
  | 108 => 0x3FA222CF#32
  | 109 => 0x40020363#32
  | 110 => 0x3D29219D#32
  | 111 => 0x3FB2A32E#32
  | 112 => 0x401E5DAF#32
  | 113 => 0x3FECEA9C#32
  | 114 => 0x3D5762C4#32
  | 115 => 0x40050C76#32
  | 116 => 0x3E6945A1#32
  | 117 => 0x3F136D73#32
  | 118 => 0x3F669102#32
  | 119 => 0xBF06E0F5#32
  | 120 => 0x3D23A2BC#32
  | 121 => 0xBF819C34#32
  | 122 => 0x3FE67820#32
  | 123 => 0x3F9B11B2#32
  | 124 => 0x3E40DB26#32
  | 125 => 0x4001329B#32
  | 126 => 0xBDCB7B6F#32
  | 127 => 0x3E8DCA1A#32
  | _ => 0#32

noncomputable abbrev lit0t0_621 (i : Nat) : BitVec 32 := match i % 128 with
  | 0 => 0xBED718F6#32
  | 1 => 0x40714EB2#32
  | 2 => 0xBF67076A#32
  | 3 => 0x3FC4D1AD#32
  | 4 => 0x3F217A3F#32
  | 5 => 0xBF9BC851#32
  | 6 => 0xBF64D177#32
  | 7 => 0x40144FCE#32
  | 8 => 0xBF040DB2#32
  | 9 => 0x3E65BE46#32
  | 10 => 0x4089DFE8#32
  | 11 => 0x400DC530#32
  | 12 => 0xBE7C0735#32
  | 13 => 0x3F3E48FC#32
  | 14 => 0x3FE7259B#32
  | 15 => 0x3F6A42D4#32
  | 16 => 0xBE3009CD#32
  | 17 => 0xBDB3E7C3#32
  | 18 => 0x3F199FBF#32
  | 19 => 0xBF5FEF24#32
  | 20 => 0x3F15F50D#32
  | 21 => 0x409E0D0D#32
  | 22 => 0x3EFCBD00#32
  | 23 => 0x40832263#32
  | 24 => 0x3E2B3DDB#32
  | 25 => 0x3DA7989B#32
  | 26 => 0x3F911138#32
  | 27 => 0x3FEF8FA0#32
  | 28 => 0x3F30A633#32
  | 29 => 0xBEBC658A#32
  | 30 => 0xBF0BC73B#32
  | 31 => 0x3D5CFE5D#32
  | 32 => 0x3D3CF1ED#32
  | 33 => 0xBEA14FF2#32
  | 34 => 0xBF5E9238#32
  | 35 => 0x3FD1D7B1#32
  | 36 => 0x3C1F655A#32
  | 37 => 0xBF81E622#32
  | 38 => 0x3FF90A30#32
  | 39 => 0x404CA5C2#32
  | 40 => 0x4009E110#32
  | 41 => 0x3F9BDB77#32
  | 42 => 0x3FEECEA6#32
  | 43 => 0x3F37D64C#32
  | 44 => 0x406EEB5D#32
  | 45 => 0x3E1FC04C#32
  | 46 => 0x407A4857#32
  | 47 => 0x3F441D46#32
  | 48 => 0x4016292B#32
  | 49 => 0xBD569022#32
  | 50 => 0xBE79A98B#32
  | 51 => 0x403BEB47#32
  | 52 => 0x3D7B0CBF#32
  | 53 => 0x4088906D#32
  | 54 => 0xBE29E4B8#32
  | 55 => 0x3E834AF3#32
  | 56 => 0x4085CA1E#32
  | 57 => 0x3F5A50D4#32
  | 58 => 0x3EB898EA#32
  | 59 => 0x4001DA1F#32
  | 60 => 0xBD82D617#32
  | 61 => 0xBE84546A#32
  | 62 => 0x400A1762#32
  | 63 => 0x3F8F6FA9#32
  | 64 => 0x3EB243CA#32
  | 65 => 0xBF86F050#32
  | 66 => 0x40165D61#32
  | 67 => 0x3F826FB8#32
  | 68 => 0xBF8D7E6B#32
  | 69 => 0xBE94238C#32
  | 70 => 0x3F3B95DA#32
  | 71 => 0x3E06DFBA#32
  | 72 => 0xBEC801BF#32
  | 73 => 0x3F472353#32
  | 74 => 0xBF622E90#32
  | 75 => 0x3FA19002#32
  | 76 => 0x3F09E0DE#32
  | 77 => 0x4019C77C#32
  | 78 => 0x3F6B3011#32
  | 79 => 0xBDC98D77#32
  | 80 => 0x3E35EDAD#32
  | 81 => 0xBE61061C#32
  | 82 => 0x3F70DB12#32
  | 83 => 0x3EF647F3#32
  | 84 => 0x3E070AFD#32
  | 85 => 0x3E14F2DC#32
  | 86 => 0x3F167609#32
  | 87 => 0x40017E13#32
  | 88 => 0x3F52834B#32
  | 89 => 0x3FEEF43B#32
  | 90 => 0x3F728928#32
  | 91 => 0x3F8CD930#32
  | 92 => 0x3E7ABB41#32
  | 93 => 0x3F255B88#32
  | 94 => 0xBEA753DE#32
  | 95 => 0xBDEA604F#32
  | 96 => 0xBEF837B8#32
  | 97 => 0xBEF8BBF0#32
  | 98 => 0xBF39717F#32
  | 99 => 0xBE89394B#32
  | 100 => 0x3EB516A8#32
  | 101 => 0x3F1CF6F2#32
  | 102 => 0x3E0E8606#32
  | 103 => 0x3F748D51#32
  | 104 => 0x3FD2B1C8#32
  | 105 => 0x4006FA55#32
  | 106 => 0xBE5C07B3#32
  | 107 => 0x40174886#32
  | 108 => 0x3EBC7A23#32
  | 109 => 0xBCBDADF9#32
  | 110 => 0x3F3CF0B6#32
  | 111 => 0xBDDB3120#32
  | 112 => 0xBDECCCF5#32
  | 113 => 0x3FB95625#32
  | 114 => 0x3FE54B77#32
  | 115 => 0x3EA603F6#32
  | 116 => 0x3FD6FAC0#32
  | 117 => 0x3FB6A159#32
  | 118 => 0x3DAC54F0#32
  | 119 => 0xBE0E0A02#32
  | 120 => 0xBFC0F87A#32
  | 121 => 0x3E156317#32
  | 122 => 0xBF3FB206#32
  | 123 => 0x3F117599#32
  | 124 => 0xBFD15D66#32
  | 125 => 0xBEDA3451#32
  | 126 => 0x3F873B87#32
  | 127 => 0xBF33DC3B#32
  | _ => 0#32

noncomputable abbrev lit0t0_622 (i : Nat) : BitVec 32 := match i % 128 with
  | 0 => 0x3F0D6B64#32
  | 1 => 0x3FF3056C#32
  | 2 => 0x3F831C4E#32
  | 3 => 0x3FE36349#32
  | 4 => 0x3E0533C0#32
  | 5 => 0x3FE41112#32
  | 6 => 0xBEBA84E5#32
  | 7 => 0xBD5CA6D6#32
  | 8 => 0xBF35C1BC#32
  | 9 => 0xBE559F29#32
  | 10 => 0x3D82EEF0#32
  | 11 => 0x3EAA128D#32
  | 12 => 0x4052752D#32
  | 13 => 0x3F08CE10#32
  | 14 => 0x3EF27FBA#32
  | 15 => 0x3F1532AC#32
  | 16 => 0x404CE22A#32
  | 17 => 0xBF82ADB3#32
  | 18 => 0xBF886408#32
  | 19 => 0xBF53EB5F#32
  | 20 => 0xBF380E10#32
  | 21 => 0xBF54EFBC#32
  | 22 => 0xBEAC3345#32
  | 23 => 0x3ED79FB8#32
  | 24 => 0xBF4F26CB#32
  | 25 => 0x3E30139A#32
  | 26 => 0xBEC2EE67#32
  | 27 => 0xBF9AE67B#32
  | 28 => 0x3FC78FA0#32
  | 29 => 0x3CCA126E#32
  | 30 => 0xBFB16728#32
  | 31 => 0xBF238DBB#32
  | 32 => 0x3F95F358#32
  | 33 => 0xBE65A746#32
  | 34 => 0x3F95B756#32
  | 35 => 0x3F66C2A4#32
  | 36 => 0x3D14DBE8#32
  | 37 => 0xBF60B3AB#32
  | 38 => 0x404DF307#32
  | 39 => 0x3F3E5619#32
  | 40 => 0xBDDBDD71#32
  | 41 => 0x3F69A23A#32
  | 42 => 0x3F93D1A9#32
  | 43 => 0xBFCBC617#32
  | 44 => 0xBF4CF6E0#32
  | 45 => 0xBD24B673#32
  | 46 => 0x3EEF9964#32
  | 47 => 0xBE521CF0#32
  | 48 => 0x3DBD7ABE#32
  | 49 => 0xBCC5477A#32
  | 50 => 0x3EA3721D#32
  | 51 => 0xBE917720#32
  | 52 => 0x4068E40F#32
  | 53 => 0x3F4DC396#32
  | 54 => 0x3F4E3E80#32
  | 55 => 0x3F4B2F12#32
  | 56 => 0xBED756AC#32
  | 57 => 0xBECE6E10#32
  | 58 => 0xBF5B1EFE#32
  | 59 => 0x3E9154A7#32
  | 60 => 0x40432BCE#32
  | 61 => 0xBE8F896D#32
  | 62 => 0xBF142B32#32
  | 63 => 0x40044BCD#32
  | 64 => 0xBF0188DD#32
  | 65 => 0x3F43BBCD#32
  | 66 => 0x3F74709E#32
  | 67 => 0x3F0C78EC#32
  | 68 => 0xBF0E514C#32
  | 69 => 0xBF81886D#32
  | 70 => 0xBE4B322B#32
  | 71 => 0x3F866295#32
  | 72 => 0x3F432E4F#32
  | 73 => 0xBC375A60#32
  | 74 => 0x403DECBE#32
  | 75 => 0x3F3EF1FA#32
  | 76 => 0x40461E99#32
  | 77 => 0x3EBB0F46#32
  | 78 => 0x3FE1D07F#32
  | 79 => 0xBF55FCCA#32
  | 80 => 0x3FD1FEC9#32
  | 81 => 0x403D4D96#32
  | 82 => 0x3FE73528#32
  | 83 => 0x3F7B38EE#32
  | 84 => 0x3F05E81E#32
  | 85 => 0x400A783C#32
  | 86 => 0xBF534F82#32
  | 87 => 0xBCAA1983#32
  | 88 => 0xBFC10538#32
  | 89 => 0x3EA201F6#32
  | 90 => 0xBE817B37#32
  | 91 => 0xBECD50A7#32
  | 92 => 0x3EB6B92E#32
  | 93 => 0x40C88FC7#32
  | 94 => 0x3F0ECCC3#32
  | 95 => 0x3FA673E6#32
  | 96 => 0xBF52CFFE#32
  | 97 => 0x400E34E7#32
  | 98 => 0x3E87C8E8#32
  | 99 => 0xBE9FCED7#32
  | 100 => 0x3F4A97F0#32
  | 101 => 0xBF32C6B1#32
  | 102 => 0x3FFE83DA#32
  | 103 => 0xBE4607B8#32
  | 104 => 0x3F6AF20C#32
  | 105 => 0xBF36CEAB#32
  | 106 => 0x3F8C000A#32
  | 107 => 0xBF554D39#32
  | 108 => 0x400758EA#32
  | 109 => 0x3F14840A#32
  | 110 => 0x3FFA69AE#32
  | 111 => 0x3F359B5C#32
  | 112 => 0xBD9DF9B8#32
  | 113 => 0x3E6F32F6#32
  | 114 => 0x3F19BC69#32
  | 115 => 0x40046B56#32
  | 116 => 0x3D8F2707#32
  | 117 => 0xBE94334A#32
  | 118 => 0xBF40406B#32
  | 119 => 0x406E59B7#32
  | 120 => 0x3FD304D6#32
  | 121 => 0x3FFE1429#32
  | 122 => 0xBF5F9312#32
  | 123 => 0xBF6F06BE#32
  | 124 => 0xBED38B70#32
  | 125 => 0x3EEB30B2#32
  | 126 => 0xBF12AA7E#32
  | 127 => 0xBE9AE9C9#32
  | _ => 0#32

noncomputable abbrev lit0t0_623 (i : Nat) : BitVec 32 := match i % 128 with
  | 0 => 0xBF962445#32
  | 1 => 0xBF9EB1F3#32
  | 2 => 0x3C9559AB#32
  | 3 => 0xBFE7C1FC#32
  | 4 => 0xBE98A6A3#32
  | 5 => 0xBDFECA32#32
  | 6 => 0xBF0F7D89#32
  | 7 => 0xBD8B0832#32
  | 8 => 0xBEB28F41#32
  | 9 => 0xBF5C5FF4#32
  | 10 => 0xBFC52530#32
  | 11 => 0x3FDADCF8#32
  | 12 => 0x404C27B2#32
  | 13 => 0x40621D2C#32
  | 14 => 0x3F609B46#32
  | 15 => 0x3FB827F8#32
  | 16 => 0x40442631#32
  | 17 => 0x4091705E#32
  | 18 => 0x3E715664#32
  | 19 => 0x3EAB1E03#32
  | 20 => 0xBE0D6780#32
  | 21 => 0x4057F0D2#32
  | 22 => 0x3F63D58A#32
  | 23 => 0x3EF92D6A#32
  | 24 => 0x3EEDC7EA#32
  | 25 => 0x3F28699C#32
  | 26 => 0xBF7CE70E#32
  | 27 => 0x3F9228B0#32
  | 28 => 0xBE79706F#32
  | 29 => 0x3F961554#32
  | 30 => 0xBC87258B#32
  | 31 => 0x3F470775#32
  | 32 => 0xBF804C42#32
  | 33 => 0x40159C4F#32
  | 34 => 0x3EC03509#32
  | 35 => 0x3FD3987E#32
  | 36 => 0x3F1D3954#32
  | 37 => 0x3ECD951E#32
  | 38 => 0xBECF224F#32
  | 39 => 0x3FBB5E86#32
  | 40 => 0x40A2D16B#32
  | 41 => 0x3FE22783#32
  | 42 => 0x3F5B0DA8#32
  | 43 => 0x3F74BBA1#32
  | 44 => 0x400C6A43#32
  | 45 => 0xBF102B42#32
  | 46 => 0xBF23CD66#32
  | 47 => 0xBEA02DF4#32
  | 48 => 0x3FC64AAA#32
  | 49 => 0x3F1DDE7E#32
  | 50 => 0x3F66F30E#32
  | 51 => 0xBEC57EC9#32
  | 52 => 0x3D4E5B46#32
  | 53 => 0x3E177B94#32
  | 54 => 0x3E233A49#32
  | 55 => 0x401289C7#32
  | 56 => 0xBF5F92FF#32
  | 57 => 0x40CCE38B#32
  | 58 => 0xBE24A926#32
  | 59 => 0xBEAC68DC#32
  | 60 => 0x3F2B31C5#32
  | 61 => 0x3F38C015#32
  | 62 => 0x3FB9FA99#32
  | 63 => 0xBEB9524C#32
  | 64 => 0x3EFA049C#32
  | 65 => 0xBE400B12#32
  | 66 => 0x3EBE4E00#32
  | 67 => 0xBE89E5C0#32
  | 68 => 0x40214D5E#32
  | 69 => 0x3E99D772#32
  | 70 => 0x400F3D2F#32
  | 71 => 0x4069F60C#32
  | 72 => 0x3EA8472D#32
  | 73 => 0x404A7056#32
  | 74 => 0x3F7E3131#32
  | 75 => 0xBF1273C0#32
  | 76 => 0x3ED1BC63#32
  | 77 => 0x3E10F424#32
  | 78 => 0xBF89E73A#32
  | 79 => 0x3FDAAAF4#32
  | 80 => 0xBEDBB112#32
  | 81 => 0x3FF7A76F#32
  | 82 => 0x3DC9ED93#32
  | 83 => 0xBE158803#32
  | 84 => 0x400FCA66#32
  | 85 => 0x40164D8F#32
  | 86 => 0xBE80CC91#32
  | 87 => 0xBF987D49#32
  | 88 => 0x4051F9E8#32
  | 89 => 0xBF7E8FFE#32
  | 90 => 0xBF81C634#32
  | 91 => 0x401C850D#32
  | 92 => 0xBFC8971E#32
  | 93 => 0x4002C9E8#32
  | 94 => 0xBF531542#32
  | 95 => 0x3F3DF858#32
  | 96 => 0xBEB10BAD#32
  | 97 => 0x4018BB0C#32
  | 98 => 0x3F11DF4B#32
  | 99 => 0xBEEB78FA#32
  | 100 => 0xBF859F84#32
  | 101 => 0xBDC640A6#32
  | 102 => 0xBF417E67#32
  | 103 => 0x40225FE7#32
  | 104 => 0x40E8B104#32
  | 105 => 0xBF13A97D#32
  | 106 => 0xBE856E4C#32
  | 107 => 0x403301DD#32
  | 108 => 0x3EA463BC#32
  | 109 => 0x3F466332#32
  | 110 => 0x3F47340C#32
  | 111 => 0xBF6D507A#32
  | 112 => 0x3F080EEE#32
  | 113 => 0x3F3F5D30#32
  | 114 => 0x3ED920C7#32
  | 115 => 0x3E9836C1#32
  | 116 => 0xBF18B026#32
  | 117 => 0x3F14A8C2#32
  | 118 => 0x3FF3323A#32
  | 119 => 0x3E044F48#32
  | 120 => 0x3F27CEE0#32
  | 121 => 0x3F317AA0#32
  | 122 => 0x402727B8#32
  | 123 => 0xBDC75F22#32
  | 124 => 0xBF02B0BB#32
  | 125 => 0x4043382C#32
  | 126 => 0x3D819D2E#32
  | 127 => 0xBF691961#32
  | _ => 0#32

noncomputable abbrev lit0t0_624 (i : Nat) : BitVec 32 := match i % 128 with
  | 0 => 0x3E8D76EC#32
  | 1 => 0x3FE191B6#32
  | 2 => 0x3F57ECF2#32
  | 3 => 0x3F9F8E70#32
  | 4 => 0x400307FD#32
  | 5 => 0x3E3A7AD9#32
  | 6 => 0x3FC4CFF6#32
  | 7 => 0x404FC266#32
  | 8 => 0x40313F1B#32
  | 9 => 0x4092CE34#32
  | 10 => 0x3D9C103C#32
  | 11 => 0x3FDABF6E#32
  | 12 => 0x3F650E12#32
  | 13 => 0x4005816A#32
  | 14 => 0xBDE6DDE0#32
  | 15 => 0xBFA1A38F#32
  | 16 => 0x3F4F0A83#32
  | 17 => 0xBF444C5C#32
  | 18 => 0x3D7AC8A2#32
  | 19 => 0x3F490482#32
  | 20 => 0x40218C0E#32
  | 21 => 0x3EDE52C4#32
  | 22 => 0x3D4F0099#32
  | 23 => 0x3F536464#32
  | 24 => 0x3F1B3BBB#32
  | 25 => 0x3F090506#32
  | 26 => 0x3F3B7A92#32
  | 27 => 0xBFDAE4C9#32
  | 28 => 0x3EC66CD8#32
  | 29 => 0x402347EB#32
  | 30 => 0x3D62F482#32
  | 31 => 0x3F5BBEBC#32
  | 32 => 0x3E8881FF#32
  | 33 => 0x4021CCE8#32
  | 34 => 0xBF122E04#32
  | 35 => 0x3F0089FE#32
  | 36 => 0xBE26B2BD#32
  | 37 => 0xBFB32B0F#32
  | 38 => 0x40075FE0#32
  | 39 => 0x3EE3DD78#32
  | 40 => 0x40028DF1#32
  | 41 => 0xBD9C74B3#32
  | 42 => 0xBF584CEE#32
  | 43 => 0xBF96A341#32
  | 44 => 0x3F97CF9B#32
  | 45 => 0xBF021333#32
  | 46 => 0x3E89046F#32
  | 47 => 0x3E4D1678#32
  | 48 => 0x3FCF2DAC#32
  | 49 => 0xBF117287#32
  | 50 => 0x3FD89A3A#32
  | 51 => 0x3F75DBAB#32
  | 52 => 0x402721C4#32
  | 53 => 0xBDFEEAEC#32
  | 54 => 0xBDD12CC6#32
  | 55 => 0x3EC1BAC7#32
  | 56 => 0xBF0C8DFB#32
  | 57 => 0x3F6EA4AB#32
  | 58 => 0x3FCBFD3A#32
  | 59 => 0x4060D54B#32
  | 60 => 0x41009E38#32
  | 61 => 0x3FC5E11F#32
  | 62 => 0x3EDBAD5C#32
  | 63 => 0x40113354#32
  | 64 => 0xBF458C1F#32
  | 65 => 0xBD7F7D54#32
  | 66 => 0xBF5CBCD6#32
  | 67 => 0xBE9347C6#32
  | 68 => 0xBF5541FA#32
  | 69 => 0x3DF71081#32
  | 70 => 0xBE8D9BC1#32
  | 71 => 0xBF8E5932#32
  | 72 => 0x403E10F6#32
  | 73 => 0x3FB2EBC6#32
  | 74 => 0x3D8162A0#32
  | 75 => 0x3F4B1079#32
  | 76 => 0xBD845657#32
  | 77 => 0x3FE6D91D#32
  | 78 => 0x3F24AB4B#32
  | 79 => 0xBF113516#32
  | 80 => 0x40014DDE#32
  | 81 => 0x40174F29#32
  | 82 => 0xBFCA971C#32
  | 83 => 0x3EE91CB2#32
  | 84 => 0xBED2A0A5#32
  | 85 => 0xBF486DA3#32
  | 86 => 0xBF764610#32
  | 87 => 0x4013059A#32
  | 88 => 0x3F88B1CC#32
  | 89 => 0xBF75B277#32
  | 90 => 0x3EB0F772#32
  | 91 => 0x3E771FEB#32
  | 92 => 0xBF02BE81#32
  | 93 => 0xBF9EE264#32
  | 94 => 0x3FD97940#32
  | 95 => 0xBF647153#32
  | 96 => 0x3F8EE4C5#32
  | 97 => 0x3F561132#32
  | 98 => 0x3EDB608E#32
  | 99 => 0xBDB3B678#32
  | 100 => 0x3EACEBE5#32
  | 101 => 0x401FCC0B#32
  | 102 => 0x3F24AE9D#32
  | 103 => 0x3E3A20C5#32
  | 104 => 0xBF22254D#32
  | 105 => 0x3F61AC27#32
  | 106 => 0xBF4F88D8#32
  | 107 => 0xBF0C908E#32
  | 108 => 0xBF171430#32
  | 109 => 0x3F5D18A2#32
  | 110 => 0x3FA60827#32
  | 111 => 0xBF81089D#32
  | 112 => 0x3F2FAC3F#32
  | 113 => 0x3FB1DB8A#32
  | 114 => 0x3F951902#32
  | 115 => 0x3E2A96E0#32
  | 116 => 0x4053EAF1#32
  | 117 => 0x3FDDE907#32
  | 118 => 0x3FAA40FA#32
  | 119 => 0x3E1E1192#32
  | 120 => 0x3E2A6850#32
  | 121 => 0x3EF1D548#32
  | 122 => 0x4010B923#32
  | 123 => 0x3FF5B030#32
  | 124 => 0x3CB75CF3#32
  | 125 => 0xBEFFCF02#32
  | 126 => 0xBFA7DCB0#32
  | 127 => 0xBF828FF4#32
  | _ => 0#32

noncomputable abbrev lit0t0_625 (i : Nat) : BitVec 32 := match i % 128 with
  | 0 => 0x3D9ADE94#32
  | 1 => 0x4077F755#32
  | 2 => 0x3FE2ED40#32
  | 3 => 0x3F28A99A#32
  | 4 => 0x3CC8856B#32
  | 5 => 0x3F106303#32
  | 6 => 0x404DDCC0#32
  | 7 => 0xBF266F6B#32
  | 8 => 0xBE579327#32
  | 9 => 0x3F6257C4#32
  | 10 => 0x3F85F68E#32
  | 11 => 0x3FB5B903#32
  | 12 => 0xBF730371#32
  | 13 => 0x3FE5EFF2#32
  | 14 => 0x3FD7A88C#32
  | 15 => 0xBEBCDCC3#32
  | 16 => 0xBF4A317D#32
  | 17 => 0x3F5A6379#32
  | 18 => 0x3E40C896#32
  | 19 => 0xBF14D994#32
  | 20 => 0xBEF1C354#32
  | 21 => 0x3FA6B72B#32
  | 22 => 0xBF5E6B98#32
  | 23 => 0x3FA9918F#32
  | 24 => 0xBD0FBA54#32
  | 25 => 0xBEA44618#32
  | 26 => 0x3F87CC71#32
  | 27 => 0xBE3E7190#32
  | 28 => 0x40007FEB#32
  | 29 => 0x4010ED5B#32
  | 30 => 0x40A83824#32
  | 31 => 0xBED0CF45#32
  | 32 => 0x3F80E7CE#32
  | 33 => 0x40801C84#32
  | 34 => 0xBF1E721C#32
  | 35 => 0xBF8AFA20#32
  | 36 => 0x3FEBA9F7#32
  | 37 => 0x3E28DA5F#32
  | 38 => 0x4007EBB0#32
  | 39 => 0xBE74D876#32
  | 40 => 0x3FA2F7DC#32
  | 41 => 0x3ECBAD98#32
  | 42 => 0xBF15061B#32
  | 43 => 0x3F57931A#32
  | 44 => 0x3F2696BF#32
  | 45 => 0x3FCA0FCD#32
  | 46 => 0x3EF7613E#32
  | 47 => 0x3F90C1EA#32
  | 48 => 0xBD4E5ACC#32
  | 49 => 0x3DCFE269#32
  | 50 => 0x3E11A790#32
  | 51 => 0x3EE9BE3E#32
  | 52 => 0x3E037A98#32
  | 53 => 0x3F890DBE#32
  | 54 => 0x3F347557#32
  | 55 => 0x4095E50C#32
  | 56 => 0xBF6D0280#32
  | 57 => 0x3E445EBE#32
  | 58 => 0x403C3312#32
  | 59 => 0x401BF83A#32
  | 60 => 0x3F86296B#32
  | 61 => 0x3F251E31#32
  | 62 => 0x3F975217#32
  | 63 => 0x3F3A7DD8#32
  | 64 => 0xBE4880DD#32
  | 65 => 0x3DF2A27F#32
  | 66 => 0x3F08BCBF#32
  | 67 => 0x3FAD55EF#32
  | 68 => 0x4008D1C9#32
  | 69 => 0x3EAFE811#32
  | 70 => 0x3F05C27E#32
  | 71 => 0x3F8B8666#32
  | 72 => 0x3FC70054#32
  | 73 => 0x3F443E95#32
  | 74 => 0x3F8D685C#32
  | 75 => 0x3FE203B4#32
  | 76 => 0xBEDFC156#32
  | 77 => 0x401BBDCD#32
  | 78 => 0xBEB5AAD3#32
  | 79 => 0x3EA70E40#32
  | 80 => 0x400DE065#32
  | 81 => 0xBFD4DA8A#32
  | 82 => 0x3EACC85D#32
  | 83 => 0x3F80EBDF#32
  | 84 => 0xBE9DDBAD#32
  | 85 => 0x3F81473E#32
  | 86 => 0x400B0F6B#32
  | 87 => 0xBF8AE7D4#32
  | 88 => 0x3EDA9ACF#32
  | 89 => 0xBF0F9795#32
  | 90 => 0x3F5F32A2#32
  | 91 => 0x3F941EFD#32
  | 92 => 0x40248281#32
  | 93 => 0xBE79786A#32
  | 94 => 0x3BB3AADE#32
  | 95 => 0xBFA7D46D#32
  | 96 => 0x3FAAE8F0#32
  | 97 => 0x3EA5BEFE#32
  | 98 => 0xBFB7A04E#32
  | 99 => 0xBD00B93B#32
  | 100 => 0x3EDE863A#32
  | 101 => 0x404DF1DC#32
  | 102 => 0xBF359AC8#32
  | 103 => 0x3FA71A04#32
  | 104 => 0xBF9CE41B#32
  | 105 => 0x3E789B92#32
  | 106 => 0x3FFB6E36#32
  | 107 => 0x3F17FB1E#32
  | 108 => 0x403AF43A#32
  | 109 => 0x3E50A28F#32
  | 110 => 0x3E837F2D#32
  | 111 => 0x3F8FC2AC#32
  | 112 => 0x3ED12C77#32
  | 113 => 0x40344A13#32
  | 114 => 0xBF430187#32
  | 115 => 0xBEDE71BA#32
  | 116 => 0x3FF4FEFA#32
  | 117 => 0xBECFF3BA#32
  | 118 => 0xBF6E70A0#32
  | 119 => 0x3F786110#32
  | 120 => 0xBF4A2956#32
  | 121 => 0x3FBDDEAF#32
  | 122 => 0x3F10A854#32
  | 123 => 0xBEDF6EB7#32
  | 124 => 0xBFC53358#32
  | 125 => 0xBE9E1B3A#32
  | 126 => 0x3F0A5EC0#32
  | 127 => 0x3F4D03E2#32
  | _ => 0#32

noncomputable abbrev lit0t0_626 (i : Nat) : BitVec 32 := match i % 128 with
  | 0 => 0x3ED42793#32
  | 1 => 0x3F435182#32
  | 2 => 0x3EC57858#32
  | 3 => 0x4031ACC6#32
  | 4 => 0xBE4D4A9A#32
  | 5 => 0x3F322ECD#32
  | 6 => 0xBF6F23F4#32
  | 7 => 0x405148EE#32
  | 8 => 0xBEBDD599#32
  | 9 => 0xBDA49780#32
  | 10 => 0x3F6851F6#32
  | 11 => 0x3CBB7507#32
  | 12 => 0x40447034#32
  | 13 => 0xBF80C10C#32
  | 14 => 0x3E5D7CBF#32
  | 15 => 0x402E0AF8#32
  | 16 => 0x40A07C61#32
  | 17 => 0x3EFA0220#32
  | 18 => 0x3F1A4CAA#32
  | 19 => 0xBD926222#32
  | 20 => 0xBF97FDBC#32
  | 21 => 0x40172B24#32
  | 22 => 0x3EF4B52A#32
  | 23 => 0x3FA95D2B#32
  | 24 => 0x3F5E07B8#32
  | 25 => 0x3F6FDEB8#32
  | 26 => 0xBFB54659#32
  | 27 => 0x3F30B258#32
  | 28 => 0xBF0E8924#32
  | 29 => 0xBF8C194C#32
  | 30 => 0xBF48FE0E#32
  | 31 => 0xBEF76CAA#32
  | 32 => 0xBE34CBDE#32
  | 33 => 0x3F872584#32
  | 34 => 0x3F84DAEE#32
  | 35 => 0x400775A6#32
  | 36 => 0x3FA065F5#32
  | 37 => 0x3E89875E#32
  | 38 => 0x40074509#32
  | 39 => 0xBE63E433#32
  | 40 => 0x3F9D538A#32
  | 41 => 0xBE2939CF#32
  | 42 => 0xBF54D52F#32
  | 43 => 0x400B9687#32
  | 44 => 0x3E62E4A3#32
  | 45 => 0xBEB0FE82#32
  | 46 => 0xBF0A346C#32
  | 47 => 0x3F8D5B9A#32
  | 48 => 0xBF52333A#32
  | 49 => 0xBE188DD6#32
  | 50 => 0x3FDAA90B#32
  | 51 => 0xBF71FF2E#32
  | 52 => 0x3F22F722#32
  | 53 => 0x401EB7E3#32
  | 54 => 0x3F2C0E3F#32
  | 55 => 0xBEA0C8A2#32
  | 56 => 0x3F52D436#32
  | 57 => 0x3F4F3671#32
  | 58 => 0x3DBE6C80#32
  | 59 => 0x3CE48D67#32
  | 60 => 0x3F86B10B#32
  | 61 => 0xBEF6BBA4#32
  | 62 => 0xBE05B6BA#32
  | 63 => 0xBE6F2476#32
  | 64 => 0x3F9D98FD#32
  | 65 => 0x3FB0397B#32
  | 66 => 0xBE951EE6#32
  | 67 => 0x3F8BC683#32
  | 68 => 0x3EC2FDFD#32
  | 69 => 0x3FDC9BC8#32
  | 70 => 0x3EBD6B05#32
  | 71 => 0x3FFC1614#32
  | 72 => 0x3EFDFD10#32
  | 73 => 0x3F0A3580#32
  | 74 => 0x3E9E7A7B#32
  | 75 => 0xBE838FBB#32
  | 76 => 0x3DDD7C6F#32
  | 77 => 0x3EDE8F1F#32
  | 78 => 0x3F9A57D0#32
  | 79 => 0xBE8BA1EE#32
  | 80 => 0x3F7E098E#32
  | 81 => 0x40241797#32
  | 82 => 0xBF1307E4#32
  | 83 => 0xBF72927A#32
  | 84 => 0xBF3EC21F#32
  | 85 => 0xBF987ACC#32
  | 86 => 0x3F8D6545#32
  | 87 => 0x3DC7E656#32
  | 88 => 0xBEF8C8EC#32
  | 89 => 0xBF1EABA1#32
  | 90 => 0xBFB09BE0#32
  | 91 => 0xBF8B01F4#32
  | 92 => 0x40876F00#32
  | 93 => 0xBD06A0B9#32
  | 94 => 0x3D8C7C26#32
  | 95 => 0xBFA2F5D7#32
  | 96 => 0x3F03047A#32
  | 97 => 0xBF391C27#32
  | 98 => 0x3F6F6295#32
  | 99 => 0xBE950C08#32
  | 100 => 0x3F137A38#32
  | 101 => 0x3E7B5350#32
  | 102 => 0xBE2BF3D0#32
  | 103 => 0x3E24DF88#32
  | 104 => 0x3D7E322C#32
  | 105 => 0x3F96CF5B#32
  | 106 => 0xBDC6472D#32
  | 107 => 0x401185D8#32
  | 108 => 0xBD9A6002#32
  | 109 => 0x3FD5B972#32
  | 110 => 0xBF41882F#32
  | 111 => 0xBEA473DA#32
  | 112 => 0x3F55C6B9#32
  | 113 => 0x393AC442#32
  | 114 => 0xBBAEF13C#32
  | 115 => 0xBED08A53#32
  | 116 => 0xBF4109C4#32
  | 117 => 0xBE8DF5FE#32
  | 118 => 0x3FDFE63B#32
  | 119 => 0x3F867944#32
  | 120 => 0x40201CC9#32
  | 121 => 0xBCE259C8#32
  | 122 => 0xBF0F36C4#32
  | 123 => 0xBF11743B#32
  | 124 => 0x3F90F28C#32
  | 125 => 0x3FCDE1C4#32
  | 126 => 0xBEC1E245#32
  | 127 => 0x3DC0F761#32
  | _ => 0#32

noncomputable abbrev lit0t0_627 (i : Nat) : BitVec 32 := match i % 128 with
  | 0 => 0xBEEDE758#32
  | 1 => 0xBEE28DD2#32
  | 2 => 0x401AC038#32
  | 3 => 0xBE60A0A5#32
  | 4 => 0x3E90C351#32
  | 5 => 0x3FA4BCFC#32
  | 6 => 0xBFA8912A#32
  | 7 => 0xBF2AA88D#32
  | 8 => 0xBDF2DD1E#32
  | 9 => 0x3E1DEC8B#32
  | 10 => 0xBFA279CB#32
  | 11 => 0x3F963568#32
  | 12 => 0x3F57CD90#32
  | 13 => 0xBE92D2F7#32
  | 14 => 0xBED93B66#32
  | 15 => 0x3FD71F1E#32
  | 16 => 0xBEEA601E#32
  | 17 => 0x3F4CF2A1#32
  | 18 => 0x3FFF5D4A#32
  | 19 => 0xBF59207A#32
  | 20 => 0x3F1FA756#32
  | 21 => 0xBF7CF84C#32
  | 22 => 0xBFB86DE5#32
  | 23 => 0x40166BE9#32
  | 24 => 0x4017F261#32
  | 25 => 0x401682AF#32
  | 26 => 0x4000E77D#32
  | 27 => 0x3FC2D855#32
  | 28 => 0x3F3D447B#32
  | 29 => 0x3F2904E7#32
  | 30 => 0xBE911194#32
  | 31 => 0x3F3159C1#32
  | 32 => 0x3F950D3D#32
  | 33 => 0xBD553099#32
  | 34 => 0x4022FFC5#32
  | 35 => 0x4005F312#32
  | 36 => 0xBF7EEF2F#32
  | 37 => 0xBE9E9350#32
  | 38 => 0xBE823105#32
  | 39 => 0x3E74825A#32
  | 40 => 0x3F1C42F0#32
  | 41 => 0x3FBC61A5#32
  | 42 => 0x3F1BB45E#32
  | 43 => 0x3F7651D1#32
  | 44 => 0x3DF0541E#32
  | 45 => 0xBF748068#32
  | 46 => 0x3FC28F5E#32
  | 47 => 0x3FB809E1#32
  | 48 => 0x40089F63#32
  | 49 => 0x3F70DBB8#32
  | 50 => 0x40371813#32
  | 51 => 0x3EE9192A#32
  | 52 => 0x3FC0FC61#32
  | 53 => 0x40144790#32
  | 54 => 0xBF0A85E4#32
  | 55 => 0x408042CD#32
  | 56 => 0xBF4FBBC1#32
  | 57 => 0x3E23726B#32
  | 58 => 0x403884A9#32
  | 59 => 0xBDA36AA6#32
  | 60 => 0xBF5CA8A8#32
  | 61 => 0x3F74C042#32
  | 62 => 0x3C684684#32
  | 63 => 0x405381E7#32
  | 64 => 0x3E76916E#32
  | 65 => 0x3E536A85#32
  | 66 => 0x3E1BE01E#32
  | 67 => 0x3F50715B#32
  | 68 => 0x4037C15D#32
  | 69 => 0xBF11717E#32
  | 70 => 0xBBFE2CFB#32
  | 71 => 0x407AA988#32
  | 72 => 0xBF064366#32
  | 73 => 0x3EC3DC66#32
  | 74 => 0x3F1EEE9B#32
  | 75 => 0xBF266F0F#32
  | 76 => 0x3F44F5AF#32
  | 77 => 0x3DCDA157#32
  | 78 => 0xBE9B4E64#32
  | 79 => 0x3F25890E#32
  | 80 => 0x4068AEF6#32
  | 81 => 0xBE61C074#32
  | 82 => 0x3FCF7E3C#32
  | 83 => 0x3EBDFB90#32
  | 84 => 0x3E1B2B2C#32
  | 85 => 0xBE73DF1B#32
  | 86 => 0x401DBE46#32
  | 87 => 0xBF46C71A#32
  | 88 => 0x400DA93A#32
  | 89 => 0x3F8219DD#32
  | 90 => 0x3F9ED00C#32
  | 91 => 0xBED35035#32
  | 92 => 0x3C98306B#32
  | 93 => 0x3F69286C#32
  | 94 => 0x3F8ECA19#32
  | 95 => 0x3FBCFB52#32
  | 96 => 0xBFD220E7#32
  | 97 => 0x3F9A9926#32
  | 98 => 0x3EAE8EFB#32
  | 99 => 0x3EA22B82#32
  | 100 => 0x3F85C94E#32
  | 101 => 0x3F0C917B#32
  | 102 => 0x40251AF0#32
  | 103 => 0x3F5D9D72#32
  | 104 => 0xBE1BEC82#32
  | 105 => 0x3F98F7A7#32
  | 106 => 0xBD672966#32
  | 107 => 0x3E31F0E2#32
  | 108 => 0x3FC04F49#32
  | 109 => 0xBF46F987#32
  | 110 => 0x3E62B3E3#32
  | 111 => 0x3FB5F9A4#32
  | 112 => 0x3F432EC4#32
  | 113 => 0x3FB31590#32
  | 114 => 0xBE43DEB6#32
  | 115 => 0xBE1C0A14#32
  | 116 => 0xBE72464A#32
  | 117 => 0xBB4D1DBE#32
  | 118 => 0x3F39ABBE#32
  | 119 => 0x4046F369#32
  | 120 => 0x3EF651FC#32
  | 121 => 0xBEE75C4A#32
  | 122 => 0x3F196732#32
  | 123 => 0x3F3D7A25#32
  | 124 => 0x3FE5BBB2#32
  | 125 => 0x3F26A8C4#32
  | 126 => 0x3E535AEC#32
  | 127 => 0x3E69AE51#32
  | _ => 0#32

noncomputable abbrev lit0t0_628 (i : Nat) : BitVec 32 := match i % 128 with
  | 0 => 0xBC65CC81#32
  | 1 => 0x3F62FD20#32
  | 2 => 0x407F8872#32
  | 3 => 0x3FC20A26#32
  | 4 => 0xBE5103E4#32
  | 5 => 0xBFB4073B#32
  | 6 => 0x3E3FD701#32
  | 7 => 0xBA8F9FD9#32
  | 8 => 0x3F94CF4E#32
  | 9 => 0x4027D828#32
  | 10 => 0x3F3C0133#32
  | 11 => 0xBE31213E#32
  | 12 => 0x3FC11408#32
  | 13 => 0xBDE2FCF0#32
  | 14 => 0xBD8D9BE9#32
  | 15 => 0x3EF7B43D#32
  | 16 => 0x3F82CFCF#32
  | 17 => 0xBF17B466#32
  | 18 => 0x3FC54DE0#32
  | 19 => 0x3FDE409A#32
  | 20 => 0x3E5A2EF7#32
  | 21 => 0xBF2FCE47#32
  | 22 => 0x3F6586DC#32
  | 23 => 0x3FA9F16D#32
  | 24 => 0x3D57B215#32
  | 25 => 0xBE405966#32
  | 26 => 0xBFD41E5A#32
  | 27 => 0x3FB9F661#32
  | 28 => 0xBECAA5E7#32
  | 29 => 0x3F17C6FC#32
  | 30 => 0xBC9064CE#32
  | 31 => 0xBE9D586A#32
  | 32 => 0xBEC7E778#32
  | 33 => 0xBD93D6B3#32
  | 34 => 0x3F86B10F#32
  | 35 => 0xBDF1E6A6#32
  | 36 => 0x3FF1E96F#32
  | 37 => 0x3F2DDF40#32
  | 38 => 0x3FAF8477#32
  | 39 => 0x3F8D5CC4#32
  | 40 => 0x3E6F2096#32
  | 41 => 0x3F671FBA#32
  | 42 => 0xBDBCEF18#32
  | 43 => 0x3FEFF503#32
  | 44 => 0xBF89779B#32
  | 45 => 0x4046382D#32
  | 46 => 0xBECBE844#32
  | 47 => 0xBEE921DC#32
  | 48 => 0xBBDB8753#32
  | 49 => 0x404178C9#32
  | 50 => 0x3F7AFFC4#32
  | 51 => 0x3F933087#32
  | 52 => 0x4026C68B#32
  | 53 => 0xBF36039F#32
  | 54 => 0x3E9008AA#32
  | 55 => 0x3EEF418F#32
  | 56 => 0x3EB6961F#32
  | 57 => 0xBF4A54F8#32
  | 58 => 0xBE4404A6#32
  | 59 => 0x3F3035F3#32
  | 60 => 0xBFAC7CC4#32
  | 61 => 0x3FCD0F05#32
  | 62 => 0x3EC06C02#32
  | 63 => 0x40659D12#32
  | 64 => 0xBDC9C054#32
  | 65 => 0xBE7A072C#32
  | 66 => 0xBF6AF161#32
  | 67 => 0x402B1821#32
  | 68 => 0x3F5D6366#32
  | 69 => 0x3D77B02A#32
  | 70 => 0x3F82277A#32
  | 71 => 0x40A8B00E#32
  | 72 => 0x3F6347BA#32
  | 73 => 0x3C96EF89#32
  | 74 => 0xBF380962#32
  | 75 => 0x403AEC45#32
  | 76 => 0xBDE3B951#32
  | 77 => 0x3DC8C122#32
  | 78 => 0x3ECF8205#32
  | 79 => 0xBF8104DC#32
  | 80 => 0x3F0C419F#32
  | 81 => 0x4046A85B#32
  | 82 => 0xBF049456#32
  | 83 => 0xBE9EAA05#32
  | 84 => 0x3EDEC73E#32
  | 85 => 0xBF781CAC#32
  | 86 => 0x3FA22127#32
  | 87 => 0x3F1CE739#32
  | 88 => 0xBF6553EC#32
  | 89 => 0x3F376909#32
  | 90 => 0x4006DBD0#32
  | 91 => 0x3FE84FA4#32
  | 92 => 0xBFA73FDA#32
  | 93 => 0x3EA3FB19#32
  | 94 => 0x3FD99136#32
  | 95 => 0x3F5A63B2#32
  | 96 => 0x3F0B3091#32
  | 97 => 0x402FBF05#32
  | 98 => 0x409106D2#32
  | 99 => 0x3E9672FA#32
  | 100 => 0xBF184DCB#32
  | 101 => 0xBEE7ED4C#32
  | 102 => 0x409E42A7#32
  | 103 => 0xBEA7FA0F#32
  | 104 => 0x3FA4AA2C#32
  | 105 => 0x4028E943#32
  | 106 => 0xBE360948#32
  | 107 => 0x408E4652#32
  | 108 => 0xBF8593D1#32
  | 109 => 0xBC239E28#32
  | 110 => 0x3F455971#32
  | 111 => 0xBE7C7C24#32
  | 112 => 0x3F4E1250#32
  | 113 => 0x3EE7C74B#32
  | 114 => 0xBF805951#32
  | 115 => 0x3E659A46#32
  | 116 => 0xBE0A68F9#32
  | 117 => 0x408294E0#32
  | 118 => 0x3F6A2708#32
  | 119 => 0x4003A688#32
  | 120 => 0x3EDE15F5#32
  | 121 => 0xBF73CD0E#32
  | 122 => 0x3D187922#32
  | 123 => 0x3F79FCD2#32
  | 124 => 0x3F02E3AE#32
  | 125 => 0xBF21EEC1#32
  | 126 => 0xBE389A0D#32
  | 127 => 0x3E974C22#32
  | _ => 0#32

noncomputable abbrev lit0t0_629 (i : Nat) : BitVec 32 := match i % 128 with
  | 0 => 0x3F000F12#32
  | 1 => 0x3F80EB22#32
  | 2 => 0xBD48AA9B#32
  | 3 => 0x3C5FC221#32
  | 4 => 0x3F830A34#32
  | 5 => 0x3FA5BFE9#32
  | 6 => 0x3F174180#32
  | 7 => 0xBF1D6B5A#32
  | 8 => 0xBF282CA0#32
  | 9 => 0x40733752#32
  | 10 => 0x3EEB9C2E#32
  | 11 => 0x3F91E762#32
  | 12 => 0x3F65AE70#32
  | 13 => 0x40847820#32
  | 14 => 0xBD89F271#32
  | 15 => 0xBE179D73#32
  | 16 => 0x4032F810#32
  | 17 => 0x3FC24C01#32
  | 18 => 0xBEA6DC51#32
  | 19 => 0x3FFA758E#32
  | 20 => 0xBF854CA8#32
  | 21 => 0xBE9A8448#32
  | 22 => 0xBF6CD218#32
  | 23 => 0xBD53BB58#32
  | 24 => 0xBF0FFC8C#32
  | 25 => 0x3DE3B38A#32
  | 26 => 0x3F4CD9E8#32
  | 27 => 0xBE3A2E52#32
  | 28 => 0xBDEFCFE3#32
  | 29 => 0xBF1731F9#32
  | 30 => 0x3F8E793F#32
  | 31 => 0x3F2099A5#32
  | 32 => 0x4001C8BA#32
  | 33 => 0xBECEE294#32
  | 34 => 0xBF922B9E#32
  | 35 => 0x3F92F162#32
  | 36 => 0x3F91DFD5#32
  | 37 => 0x3FBE0E68#32
  | 38 => 0xBF56DE26#32
  | 39 => 0xBFA093BA#32
  | 40 => 0xBEFB39BA#32
  | 41 => 0xBFEF1890#32
  | 42 => 0x406004D6#32
  | 43 => 0xBF595D12#32
  | 44 => 0x4084CB74#32
  | 45 => 0xBF3D9C45#32
  | 46 => 0xBFA14E40#32
  | 47 => 0xBEFC8919#32
  | 48 => 0x40336AFA#32
  | 49 => 0x3E137706#32
  | 50 => 0x402CB9F2#32
  | 51 => 0x3F4A6758#32
  | 52 => 0x3E64635D#32
  | 53 => 0x402CBB9F#32
  | 54 => 0xBF06DD92#32
  | 55 => 0xBF7E32CB#32
  | 56 => 0x4089FF16#32
  | 57 => 0xBF5581F5#32
  | 58 => 0x3F5A3C8A#32
  | 59 => 0x4051862A#32
  | 60 => 0x3F812FF7#32
  | 61 => 0x3F1CFEA2#32
  | 62 => 0x3FC79D90#32
  | 63 => 0xBF467A20#32
  | 64 => 0xBF990CF7#32
  | 65 => 0x3FA7CD10#32
  | 66 => 0x3F33730E#32
  | 67 => 0xBF98D160#32
  | 68 => 0xBE464F62#32
  | 69 => 0xBC8AAE0B#32
  | 70 => 0x3EC3EF12#32
  | 71 => 0xBF37B8F2#32
  | 72 => 0x3F754F20#32
  | 73 => 0xBF550176#32
  | 74 => 0x3FCD24EA#32
  | 75 => 0xBDF61A05#32
  | 76 => 0xBEB0B4DF#32
  | 77 => 0x3D3F9DF9#32
  | 78 => 0x3F212A6F#32
  | 79 => 0xBE6664B1#32
  | 80 => 0x3FF28CD4#32
  | 81 => 0xBEC996BF#32
  | 82 => 0x3F9B85BB#32
  | 83 => 0xBDCB43F9#32
  | 84 => 0xBDD7DFDC#32
  | 85 => 0xBF4688FE#32
  | 86 => 0x40341AA9#32
  | 87 => 0xBEAD1E3D#32
  | 88 => 0x3E7E0151#32
  | 89 => 0xBEB9D01E#32
  | 90 => 0xBE9CC502#32
  | 91 => 0xBFA3AD6A#32
  | 92 => 0x3DED8584#32
  | 93 => 0x3FF9A454#32
  | 94 => 0x3EC75A22#32
  | 95 => 0x3F38789E#32
  | 96 => 0x3E615E22#32
  | 97 => 0x3F0F1AA2#32
  | 98 => 0x3F6DDC9B#32
  | 99 => 0x3F477A0C#32
  | 100 => 0x3F2F4765#32
  | 101 => 0xBF929578#32
  | 102 => 0x3DA01B84#32
  | 103 => 0x3FBA9108#32
  | 104 => 0xBE2051D3#32
  | 105 => 0x3D9F85B5#32
  | 106 => 0xBF8FF452#32
  | 107 => 0x3E5A7C1B#32
  | 108 => 0x3F455AAE#32
  | 109 => 0x3D10CFAB#32
  | 110 => 0x3EC1B147#32
  | 111 => 0x3F1631F0#32
  | 112 => 0x3EEE3B92#32
  | 113 => 0x3D5112FD#32
  | 114 => 0x40250B4B#32
  | 115 => 0x3F8CF568#32
  | 116 => 0xBFD3DEF3#32
  | 117 => 0x401FC855#32
  | 118 => 0x3F63217D#32
  | 119 => 0x3F6D36A6#32
  | 120 => 0x3E823348#32
  | 121 => 0x3E3E01E5#32
  | 122 => 0xBE8A04C7#32
  | 123 => 0xBE9F0F29#32
  | 124 => 0xBC9AC16D#32
  | 125 => 0x3FE23FA8#32
  | 126 => 0xBF1DEE94#32
  | 127 => 0x3FFAC671#32
  | _ => 0#32

noncomputable abbrev lit0t0_630 (i : Nat) : BitVec 32 := match i % 128 with
  | 0 => 0x3F4FC1BC#32
  | 1 => 0x3FED1710#32
  | 2 => 0xBFADE59C#32
  | 3 => 0xBF873748#32
  | 4 => 0x3FC68230#32
  | 5 => 0x3FED8C8A#32
  | 6 => 0x3F36F508#32
  | 7 => 0xBEAE6A53#32
  | 8 => 0xBF95AE73#32
  | 9 => 0x409A62DC#32
  | 10 => 0x401E74B6#32
  | 11 => 0x4094B0A0#32
  | 12 => 0x3F51D4B8#32
  | 13 => 0xBFAAAD94#32
  | 14 => 0x3F572C9E#32
  | 15 => 0x3F63EC76#32
  | 16 => 0x4056374C#32
  | 17 => 0xBD585BCE#32
  | 18 => 0x3E7E214B#32
  | 19 => 0x3F6A88F0#32
  | 20 => 0x3CEF3BBE#32
  | 21 => 0xBF118370#32
  | 22 => 0xBF884AC6#32
  | 23 => 0x3EF84776#32
  | 24 => 0x3F93CA53#32
  | 25 => 0xBF2486BA#32
  | 26 => 0x40627E82#32
  | 27 => 0xBF0775DD#32
  | 28 => 0x3E71651A#32
  | 29 => 0xBB0A0CC0#32
  | 30 => 0x3F087448#32
  | 31 => 0x3D635942#32
  | 32 => 0x3FA024E4#32
  | 33 => 0xBD4A0800#32
  | 34 => 0xBF126506#32
  | 35 => 0x40098839#32
  | 36 => 0xBD9C2338#32
  | 37 => 0x3FA1B554#32
  | 38 => 0x4004E089#32
  | 39 => 0xBF85A597#32
  | 40 => 0x3FBC237A#32
  | 41 => 0x4056B4D1#32
  | 42 => 0x400E9530#32
  | 43 => 0x3EEA6F5C#32
  | 44 => 0x3F6E4F5C#32
  | 45 => 0xBD80A2BE#32
  | 46 => 0x3F187E2E#32
  | 47 => 0x3EDA86C5#32
  | 48 => 0x3FB34978#32
  | 49 => 0xBF64921F#32
  | 50 => 0x3ECDDBD6#32
  | 51 => 0x40083423#32
  | 52 => 0xBE2E6448#32
  | 53 => 0x3F98FC29#32
  | 54 => 0x400AA437#32
  | 55 => 0x3F5ADDF3#32
  | 56 => 0x3E8B1CE4#32
  | 57 => 0xBF172EA8#32
  | 58 => 0x3FA51D5D#32
  | 59 => 0x3E7E16FB#32
  | 60 => 0x400A1084#32
  | 61 => 0x400C2DBD#32
  | 62 => 0xBEEB1CD2#32
  | 63 => 0x3D3E776D#32
  | 64 => 0x3E1484DE#32
  | 65 => 0xBDEA0DEB#32
  | 66 => 0xBF5CBFB2#32
  | 67 => 0x3F75D581#32
  | 68 => 0x3F0A4D20#32
  | 69 => 0xC002C619#32
  | 70 => 0x3F95AA5D#32
  | 71 => 0x3F8A0D0A#32
  | 72 => 0x3F662768#32
  | 73 => 0x3F13F32F#32
  | 74 => 0x3EBD47D1#32
  | 75 => 0x3E82A809#32
  | 76 => 0x3EFCEA1C#32
  | 77 => 0xBD9BA294#32
  | 78 => 0x3F18BCCB#32
  | 79 => 0xBF054FEA#32
  | 80 => 0x3E9B4CB9#32
  | 81 => 0xBDF3F30B#32
  | 82 => 0x3F0014DD#32
  | 83 => 0xBDA3B910#32
  | 84 => 0x3F4D7157#32
  | 85 => 0xBF0064A8#32
  | 86 => 0xBE6ABBEC#32
  | 87 => 0x3F209B91#32
  | 88 => 0x3FDDE4BB#32
  | 89 => 0xBEECFC45#32
  | 90 => 0xBE88D5DC#32
  | 91 => 0x3F6DD34C#32
  | 92 => 0x4003BF91#32
  | 93 => 0x3FB2F357#32
  | 94 => 0x3FF5AAD2#32
  | 95 => 0x4012BA82#32
  | 96 => 0x3E98387B#32
  | 97 => 0xBF1EE3EB#32
  | 98 => 0x406074B2#32
  | 99 => 0xBF8BFCD0#32
  | 100 => 0x402E8E97#32
  | 101 => 0xBD0CB10A#32
  | 102 => 0x3F0EFF6D#32
  | 103 => 0x3F35AC95#32
  | 104 => 0xBEEC2370#32
  | 105 => 0x3F386572#32
  | 106 => 0xBF0BF3C0#32
  | 107 => 0xBF599DA9#32
  | 108 => 0x3FB6FEEE#32
  | 109 => 0x3F6A0016#32
  | 110 => 0x3DF29EE9#32
  | 111 => 0x3F9F1DB7#32
  | 112 => 0xBEE56721#32
  | 113 => 0x3FCC910D#32
  | 114 => 0xBF07535E#32
  | 115 => 0x402664BC#32
  | 116 => 0x3EECE510#32
  | 117 => 0x3CAF41A3#32
  | 118 => 0x3FA2C11E#32
  | 119 => 0xBE5384E1#32
  | 120 => 0xBF081B56#32
  | 121 => 0x3FA96EC0#32
  | 122 => 0x3F817466#32
  | 123 => 0xBF2719F1#32
  | 124 => 0x3FDFBDC8#32
  | 125 => 0x4096641A#32
  | 126 => 0x3E8F866C#32
  | 127 => 0x3F6EE2FE#32
  | _ => 0#32

noncomputable abbrev lit0t0_631 (i : Nat) : BitVec 32 := match i % 128 with
  | 0 => 0xBF132C81#32
  | 1 => 0xBEBEB74E#32
  | 2 => 0xBD05E820#32
  | 3 => 0xBE6317A5#32
  | 4 => 0xBEAA75E6#32
  | 5 => 0x3EF0CA3C#32
  | 6 => 0x3EAFC6FC#32
  | 7 => 0x3F1BC6C5#32
  | 8 => 0x3F2ECFD9#32
  | 9 => 0x3E5339FC#32
  | 10 => 0x3F7848C5#32
  | 11 => 0x3F13ABB4#32
  | 12 => 0x3FEF179A#32
  | 13 => 0x4010B34B#32
  | 14 => 0x3FC8B130#32
  | 15 => 0xBE881856#32
  | 16 => 0x3F60BBA6#32
  | 17 => 0x3F70B8CC#32
  | 18 => 0xBF4F28AA#32
  | 19 => 0x40113895#32
  | 20 => 0xBE6A62C7#32
  | 21 => 0xBF29F2D5#32
  | 22 => 0x3F0E9F2B#32
  | 23 => 0x3F0A0074#32
  | 24 => 0xBF89E1E2#32
  | 25 => 0x3FB06A3C#32
  | 26 => 0xBF62365F#32
  | 27 => 0x4045EA77#32
  | 28 => 0xBF8751A4#32
  | 29 => 0x3ED52371#32
  | 30 => 0x3F205A9E#32
  | 31 => 0xBF4E2559#32
  | 32 => 0xBF962D6D#32
  | 33 => 0x40436799#32
  | 34 => 0x400F3DA2#32
  | 35 => 0xBF8DC86E#32
  | 36 => 0x3F9C750B#32
  | 37 => 0x3E40E599#32
  | 38 => 0x3BDF0DE9#32
  | 39 => 0x3F26DFC4#32
  | 40 => 0xBEFF1A82#32
  | 41 => 0xBF85A4DD#32
  | 42 => 0xBEF472AA#32
  | 43 => 0xBE470EC7#32
  | 44 => 0x3F17C148#32
  | 45 => 0x3F55A128#32
  | 46 => 0x3E3E1432#32
  | 47 => 0xBF30214D#32
  | 48 => 0x3F6E68BB#32
  | 49 => 0xBEA33531#32
  | 50 => 0x407EBC62#32
  | 51 => 0x3FA1BE13#32
  | 52 => 0xBF4366BA#32
  | 53 => 0xBCC1FC5B#32
  | 54 => 0xBEF75D1C#32
  | 55 => 0x3F421C53#32
  | 56 => 0x3ED93725#32
  | 57 => 0x3E501036#32
  | 58 => 0x4079F47A#32
  | 59 => 0x3DB49CA8#32
  | 60 => 0x3F82F895#32
  | 61 => 0x3FB90666#32
  | 62 => 0xBD6B230B#32
  | 63 => 0x3F539892#32
  | 64 => 0xBE4B44D3#32
  | 65 => 0xBE875FCB#32
  | 66 => 0x3F65EF73#32
  | 67 => 0x3F02A5E1#32
  | 68 => 0x3EC422F6#32
  | 69 => 0xBD8C1F43#32
  | 70 => 0x3FB1B591#32
  | 71 => 0xBF911CF6#32
  | 72 => 0x4069C644#32
  | 73 => 0x3F310D3A#32
  | 74 => 0x40AEF126#32
  | 75 => 0x3F1EBA4C#32
  | 76 => 0xBD8DF83B#32
  | 77 => 0xBE1616DA#32
  | 78 => 0x400D318A#32
  | 79 => 0xBDFFE28A#32
  | 80 => 0xBF935589#32
  | 81 => 0xBEA38439#32
  | 82 => 0x40007178#32
  | 83 => 0xBE23D699#32
  | 84 => 0xBC9D1014#32
  | 85 => 0x3F4CAE34#32
  | 86 => 0x3F4EEEA3#32
  | 87 => 0x3F91B046#32
  | 88 => 0x3C4313A1#32
  | 89 => 0x3EC48E26#32
  | 90 => 0x3E16BEAD#32
  | 91 => 0xBC3017E0#32
  | 92 => 0xBFA1ED14#32
  | 93 => 0x40C04ECA#32
  | 94 => 0x40574FF3#32
  | 95 => 0x3F7B108E#32
  | 96 => 0xBF8044DF#32
  | 97 => 0xBF70AA8F#32
  | 98 => 0xBF0E1AC0#32
  | 99 => 0x3D8CBB02#32
  | 100 => 0x409513FA#32
  | 101 => 0x3F36DB47#32
  | 102 => 0x3FD918E8#32
  | 103 => 0x3F7BD79B#32
  | 104 => 0x3C7EB98B#32
  | 105 => 0xBE810EE7#32
  | 106 => 0x405BDB1D#32
  | 107 => 0x3F8C7DA5#32
  | 108 => 0x40078B1D#32
  | 109 => 0x3F98A810#32
  | 110 => 0x3F60CE89#32
  | 111 => 0xBF2E28F3#32
  | 112 => 0xC003BE28#32
  | 113 => 0x3F8FC44C#32
  | 114 => 0xBEE5D012#32
  | 115 => 0x3F506450#32
  | 116 => 0x3CA6C7F0#32
  | 117 => 0xBF40E4EA#32
  | 118 => 0x3E21795F#32
  | 119 => 0x3E348856#32
  | 120 => 0xBF2BB5A5#32
  | 121 => 0xBF42F86C#32
  | 122 => 0x4014B6F4#32
  | 123 => 0x40092646#32
  | 124 => 0xBFAE0C26#32
  | 125 => 0x40545AB9#32
  | 126 => 0x3FEDF442#32
  | 127 => 0x3E1A18B7#32
  | _ => 0#32

noncomputable abbrev lit0t0_632 (i : Nat) : BitVec 32 := match i % 128 with
  | 0 => 0x3F33A01D#32
  | 1 => 0x40236B19#32
  | 2 => 0xBFBE126E#32
  | 3 => 0x3F9974B0#32
  | 4 => 0x3E14E9F0#32
  | 5 => 0xBE8D8B6A#32
  | 6 => 0xBFCE7E7D#32
  | 7 => 0x3EC18D1E#32
  | 8 => 0xBEC83922#32
  | 9 => 0xBF353A48#32
  | 10 => 0x3F03BE97#32
  | 11 => 0x4029EBA2#32
  | 12 => 0xBE8591B3#32
  | 13 => 0x3DC274E8#32
  | 14 => 0x3EF5265C#32
  | 15 => 0x3EAB6E37#32
  | 16 => 0x3FC53834#32
  | 17 => 0x401AED84#32
  | 18 => 0xBF886480#32
  | 19 => 0x3E6EE4FF#32
  | 20 => 0x3FA8CC00#32
  | 21 => 0x3F3CB3BB#32
  | 22 => 0x3FA427D0#32
  | 23 => 0xBF80A002#32
  | 24 => 0x3E859432#32
  | 25 => 0x3FD772D6#32
  | 26 => 0x3F9CCFF4#32
  | 27 => 0x4080A2EE#32
  | 28 => 0xBCCA51A0#32
  | 29 => 0xBF3D7EAC#32
  | 30 => 0x3F5995F2#32
  | 31 => 0xBF262FA8#32
  | 32 => 0x3F401962#32
  | 33 => 0x3F93AAE1#32
  | 34 => 0x3FD53E39#32
  | 35 => 0xBF2B0A2C#32
  | 36 => 0x3F0BA827#32
  | 37 => 0x3FE421EF#32
  | 38 => 0xBF896AD3#32
  | 39 => 0x3E84B992#32
  | 40 => 0xBE9FFB0E#32
  | 41 => 0x4083A2C8#32
  | 42 => 0x3F9B0DFB#32
  | 43 => 0x3E55AEE2#32
  | 44 => 0x3F9417BD#32
  | 45 => 0x3FBE8B88#32
  | 46 => 0xBBA51C55#32
  | 47 => 0xBF34F87A#32
  | 48 => 0xBF75DBA0#32
  | 49 => 0xBE98EA5F#32
  | 50 => 0x40112FA4#32
  | 51 => 0x407059E5#32
  | 52 => 0xBF15C8D0#32
  | 53 => 0x3F3388A7#32
  | 54 => 0x4004B717#32
  | 55 => 0x3DB6F4A6#32
  | 56 => 0xBAFEB09D#32
  | 57 => 0x3FA73410#32
  | 58 => 0x3EB4691B#32
  | 59 => 0xBF01CCDE#32
  | 60 => 0xBF5A45FE#32
  | 61 => 0xBDADE801#32
  | 62 => 0x3F524C9F#32
  | 63 => 0x3F974B02#32
  | 64 => 0xBE6DEF4E#32
  | 65 => 0xBFB4EE7D#32
  | 66 => 0xBFDE3B48#32
  | 67 => 0x3EED6544#32
  | 68 => 0x3FDE8499#32
  | 69 => 0x3F856A5A#32
  | 70 => 0x3DCDECF1#32
  | 71 => 0x3F66B512#32
  | 72 => 0x3D525946#32
  | 73 => 0x3F3B7F8A#32
  | 74 => 0x3DE8BAC6#32
  | 75 => 0x3EEFF330#32
  | 76 => 0x3F6B15FA#32
  | 77 => 0xBF2C2F42#32
  | 78 => 0xBF86F638#32
  | 79 => 0xBDD28D4C#32
  | 80 => 0xBE8D0B83#32
  | 81 => 0x3F89EEBA#32
  | 82 => 0xBFBD7302#32
  | 83 => 0xBF437A05#32
  | 84 => 0xBFBF149E#32
  | 85 => 0xBFEE0C50#32
  | 86 => 0x3FF203AB#32
  | 87 => 0x3F4803F6#32
  | 88 => 0x3FBB6C15#32
  | 89 => 0x3E88FEAD#32
  | 90 => 0xBE698720#32
  | 91 => 0xBED5B1F6#32
  | 92 => 0x3FACF003#32
  | 93 => 0x3FAA2C65#32
  | 94 => 0x3FE8B403#32
  | 95 => 0x400C79B4#32
  | 96 => 0x3F33B519#32
  | 97 => 0x3F70A9CE#32
  | 98 => 0x402F15B7#32
  | 99 => 0x3FC5DDFE#32
  | 100 => 0xBF6CA1A2#32
  | 101 => 0x3EA8D4AC#32
  | 102 => 0xBC9CF597#32
  | 103 => 0x3C01ACC6#32
  | 104 => 0x3DC1411B#32
  | 105 => 0x3FD5747D#32
  | 106 => 0xBF2CBBF8#32
  | 107 => 0x400858E4#32
  | 108 => 0x3F6991B8#32
  | 109 => 0x400BEB30#32
  | 110 => 0x3D915F2A#32
  | 111 => 0x3E7031A5#32
  | 112 => 0x4014A5E4#32
  | 113 => 0x404ABF23#32
  | 114 => 0xBF12F3F7#32
  | 115 => 0x3EDA638B#32
  | 116 => 0x3E122E0C#32
  | 117 => 0x3FA7B968#32
  | 118 => 0xBF554A60#32
  | 119 => 0x3D8B22AA#32
  | 120 => 0xBD3DD8D6#32
  | 121 => 0xBF35C17F#32
  | 122 => 0x3F3F4FAE#32
  | 123 => 0x3F00E2F1#32
  | 124 => 0x40331E1A#32
  | 125 => 0xBF75DBE9#32
  | 126 => 0xBD2CDC16#32
  | 127 => 0x3E22F2EB#32
  | _ => 0#32

noncomputable abbrev lit0t0_633 (i : Nat) : BitVec 32 := match i % 128 with
  | 0 => 0x3F97013E#32
  | 1 => 0x3E351FB2#32
  | 2 => 0x3FDAAF74#32
  | 3 => 0x3E186C74#32
  | 4 => 0xBE8D3D75#32
  | 5 => 0x3F074F1F#32
  | 6 => 0xBB98E38D#32
  | 7 => 0xBDB2B227#32
  | 8 => 0x3F6712BA#32
  | 9 => 0x3ECF2402#32
  | 10 => 0xBFA35E74#32
  | 11 => 0x3EE4F2E2#32
  | 12 => 0x3E1A4EB9#32
  | 13 => 0x3F2BD66B#32
  | 14 => 0x3F92B734#32
  | 15 => 0x3F8A416F#32
  | 16 => 0xBED75C47#32
  | 17 => 0x3F912EE6#32
  | 18 => 0xBFEC46D7#32
  | 19 => 0xBF667660#32
  | 20 => 0x3E5A7635#32
  | 21 => 0xBF9F7288#32
  | 22 => 0xBEFACC5D#32
  | 23 => 0x402B00CC#32
  | 24 => 0x3F3D8AB7#32
  | 25 => 0x40D017A4#32
  | 26 => 0x3FB33BCE#32
  | 27 => 0xBF7795FB#32
  | 28 => 0x3FAA5923#32
  | 29 => 0x3F847EE2#32
  | 30 => 0x3F878220#32
  | 31 => 0x3EDCF75D#32
  | 32 => 0x3FCB4DB3#32
  | 33 => 0xBF78A0F6#32
  | 34 => 0xBF84D37E#32
  | 35 => 0xBF62FF94#32
  | 36 => 0x3EBCACED#32
  | 37 => 0x3E83A9E8#32
  | 38 => 0x3FE076A8#32
  | 39 => 0x3EFA50F4#32
  | 40 => 0x3F80DEFC#32
  | 41 => 0xBCC22C35#32
  | 42 => 0xBD71D527#32
  | 43 => 0xBF8AFF19#32
  | 44 => 0xBF0C1342#32
  | 45 => 0xBE9CA045#32
  | 46 => 0x3FC853C6#32
  | 47 => 0x4044FF28#32
  | 48 => 0xBF91B07D#32
  | 49 => 0xBF8DE248#32
  | 50 => 0x408E3FD5#32
  | 51 => 0x3F0BE7EC#32
  | 52 => 0xBEA7EF47#32
  | 53 => 0x3F8B2D59#32
  | 54 => 0xBE44D969#32
  | 55 => 0xBF6B0B41#32
  | 56 => 0x3E8A96B3#32
  | 57 => 0xBF2C32A0#32
  | 58 => 0x3C8282DC#32
  | 59 => 0x3FF385E0#32
  | 60 => 0xBF7A76A8#32
  | 61 => 0xBEF979DB#32
  | 62 => 0xBD5B2ED3#32
  | 63 => 0xBEFDD6E6#32
  | 64 => 0x3DCE8158#32
  | 65 => 0x3F09C67A#32
  | 66 => 0xBF1BAF7C#32
  | 67 => 0xBF2D909E#32
  | 68 => 0x3E9F48F2#32
  | 69 => 0xBE68AE61#32
  | 70 => 0xBF6700D0#32
  | 71 => 0xBF9FF44D#32
  | 72 => 0xBF39C5D3#32
  | 73 => 0x401D8B74#32
  | 74 => 0x3F82BBFE#32
  | 75 => 0x3EAEE465#32
  | 76 => 0x3ED5CDA5#32
  | 77 => 0x4010BAB2#32
  | 78 => 0x3E35827F#32
  | 79 => 0x3FB6E8A6#32
  | 80 => 0x3FE2DE58#32
  | 81 => 0x3F013ACE#32
  | 82 => 0x3F1F6523#32
  | 83 => 0x3E374866#32
  | 84 => 0xBF47F257#32
  | 85 => 0x403551EB#32
  | 86 => 0x40022F92#32
  | 87 => 0x4009A805#32
  | 88 => 0xBF4C743E#32
  | 89 => 0xBF54AA90#32
  | 90 => 0x3FA9081D#32
  | 91 => 0xBF8DDFB2#32
  | 92 => 0x3ED7D712#32
  | 93 => 0x3F11B510#32
  | 94 => 0x3E98F0A7#32
  | 95 => 0x3E32E467#32
  | 96 => 0xBF1B314D#32
  | 97 => 0x4097E2C0#32
  | 98 => 0xBDED18B9#32
  | 99 => 0x3D5ED7B3#32
  | 100 => 0x3E166CA1#32
  | 101 => 0x3FAE5F11#32
  | 102 => 0x3F8FD109#32
  | 103 => 0x3EFC8F60#32
  | 104 => 0x402E65E2#32
  | 105 => 0x3E9D0CC9#32
  | 106 => 0xBE675728#32
  | 107 => 0x3FBD8D2B#32
  | 108 => 0x3F670D18#32
  | 109 => 0x3E3FF74E#32
  | 110 => 0xBF84B3FA#32
  | 111 => 0x3E8256E6#32
  | 112 => 0x3F43A477#32
  | 113 => 0x405604B8#32
  | 114 => 0x3E729799#32
  | 115 => 0x3FFABDCC#32
  | 116 => 0x3F1D7E38#32
  | 117 => 0x3ED76037#32
  | 118 => 0xBF127040#32
  | 119 => 0x3DE186B6#32
  | 120 => 0x3FBF22BA#32
  | 121 => 0x3F1DBDBC#32
  | 122 => 0x3EEB314E#32
  | 123 => 0x3F962372#32
  | 124 => 0x40159685#32
  | 125 => 0x3FAB5A27#32
  | 126 => 0x3F5FF06C#32
  | 127 => 0x3F084850#32
  | _ => 0#32

noncomputable abbrev lit0t0_634 (i : Nat) : BitVec 32 := match i % 128 with
  | 0 => 0x3F36526C#32
  | 1 => 0x3EED3E69#32
  | 2 => 0xBF22FEE3#32
  | 3 => 0xBF4E4046#32
  | 4 => 0xBF40B7CA#32
  | 5 => 0xBF9623F7#32
  | 6 => 0x3F521F7C#32
  | 7 => 0xBF64D106#32
  | 8 => 0x3F703AD0#32
  | 9 => 0x3DE61F17#32
  | 10 => 0xBE85D50E#32
  | 11 => 0xBF8E770E#32
  | 12 => 0x3F84F807#32
  | 13 => 0x3EAFB21E#32
  | 14 => 0x3E230D10#32
  | 15 => 0x3FB2435C#32
  | 16 => 0x3F14B081#32
  | 17 => 0x401852EA#32
  | 18 => 0x4052A67A#32
  | 19 => 0xBF50844C#32
  | 20 => 0x3F204770#32
  | 21 => 0x4089C784#32
  | 22 => 0xBEE6C009#32
  | 23 => 0xBF07102A#32
  | 24 => 0xBF83E579#32
  | 25 => 0x3F707F49#32
  | 26 => 0xBE66F317#32
  | 27 => 0x3F34509A#32
  | 28 => 0x3FD35E85#32
  | 29 => 0x3FFA72EA#32
  | 30 => 0x3F8A59F7#32
  | 31 => 0x40627F33#32
  | 32 => 0x3FAE890B#32
  | 33 => 0x3E5D48A6#32
  | 34 => 0x3F119716#32
  | 35 => 0x3FBDE546#32
  | 36 => 0xBFB8CB03#32
  | 37 => 0x3E2527B2#32
  | 38 => 0x3D08BFF1#32
  | 39 => 0x3ED1AE39#32
  | 40 => 0x3FB9D04F#32
  | 41 => 0xBC806025#32
  | 42 => 0x4020156A#32
  | 43 => 0x401BF8F5#32
  | 44 => 0x3FDFD2CD#32
  | 45 => 0xBF6B9B92#32
  | 46 => 0xBDB364F1#32
  | 47 => 0xBF05DD5B#32
  | 48 => 0x3FA40BA0#32
  | 49 => 0x3E90E50F#32
  | 50 => 0x3FC38E97#32
  | 51 => 0xBEF65F9F#32
  | 52 => 0xBF1B405C#32
  | 53 => 0x40C164FF#32
  | 54 => 0x3FD45836#32
  | 55 => 0x3F2A0263#32
  | 56 => 0x3FB89007#32
  | 57 => 0x3E5EE900#32
  | 58 => 0x3E5A805C#32
  | 59 => 0x3DB8488C#32
  | 60 => 0xBF68E778#32
  | 61 => 0xBF879781#32
  | 62 => 0xBE82B45F#32
  | 63 => 0x3F80AA58#32
  | 64 => 0x3DA09FB9#32
  | 65 => 0x3FCDCA95#32
  | 66 => 0x3F674B0A#32
  | 67 => 0x3E9457FF#32
  | 68 => 0x4048A6A3#32
  | 69 => 0x400457F5#32
  | 70 => 0x3F8BB0A5#32
  | 71 => 0x3FBCD58B#32
  | 72 => 0x3F8C107A#32
  | 73 => 0xBFD6FA76#32
  | 74 => 0x3F83ABBE#32
  | 75 => 0x3EE9104B#32
  | 76 => 0xBD8F9E15#32
  | 77 => 0xBE9FBBF5#32
  | 78 => 0x3FD1705C#32
  | 79 => 0xBEDC69A4#32
  | 80 => 0x401565BE#32
  | 81 => 0x4071FAFA#32
  | 82 => 0xBF2C0639#32
  | 83 => 0xBEE91A00#32
  | 84 => 0x3F8B424A#32
  | 85 => 0xBF52F373#32
  | 86 => 0xBDF84213#32
  | 87 => 0x408090E6#32
  | 88 => 0x3F3AA98C#32
  | 89 => 0x3F942937#32
  | 90 => 0xBF33E78A#32
  | 91 => 0x3E915CFC#32
  | 92 => 0x3FF29244#32
  | 93 => 0x3F84C900#32
  | 94 => 0x3F885EE5#32
  | 95 => 0x3FDEF5C4#32
  | 96 => 0xBE87480C#32
  | 97 => 0xBF9B5558#32
  | 98 => 0x4032559C#32
  | 99 => 0x3E7EE380#32
  | 100 => 0x3F451992#32
  | 101 => 0xBE6C6E1C#32
  | 102 => 0xBE8C7DB3#32
  | 103 => 0xBF659A62#32
  | 104 => 0x403DC93C#32
  | 105 => 0x3FF6B6FB#32
  | 106 => 0x3E0D7383#32
  | 107 => 0x3FF0B8CE#32
  | 108 => 0x40101870#32
  | 109 => 0x3F5D6DA9#32
  | 110 => 0xBF74581F#32
  | 111 => 0x3E3391E6#32
  | 112 => 0xBD3A3D1B#32
  | 113 => 0xBF09B4D7#32
  | 114 => 0x3DE35710#32
  | 115 => 0xBEEC32D6#32
  | 116 => 0x3F12882B#32
  | 117 => 0xBF3846EF#32
  | 118 => 0xBBD1940F#32
  | 119 => 0x3ED8659E#32
  | 120 => 0x3EB8BACD#32
  | 121 => 0x4010F609#32
  | 122 => 0x40137719#32
  | 123 => 0x3F666C26#32
  | 124 => 0xBF6412F8#32
  | 125 => 0x3F6DEBE8#32
  | 126 => 0xBE8D4E82#32
  | 127 => 0xBDDF527E#32
  | _ => 0#32

noncomputable abbrev lit0t0_635 (i : Nat) : BitVec 32 := match i % 128 with
  | 0 => 0x3FEBE6D8#32
  | 1 => 0xBF27B3EE#32
  | 2 => 0x3FAC521D#32
  | 3 => 0xBF84F389#32
  | 4 => 0x3FE83C32#32
  | 5 => 0x3FE9E36C#32
  | 6 => 0x40012AF7#32
  | 7 => 0x3FB05981#32
  | 8 => 0x401250B5#32
  | 9 => 0x3F8C32EE#32
  | 10 => 0x3F4A6F20#32
  | 11 => 0x3F056C77#32
  | 12 => 0xBFD12E75#32
  | 13 => 0x3FBA6A77#32
  | 14 => 0x3E31280E#32
  | 15 => 0x3EEA74E4#32
  | 16 => 0x3F7F885E#32
  | 17 => 0x3DEB563A#32
  | 18 => 0xBF908AC3#32
  | 19 => 0x3E5F857F#32
  | 20 => 0xBECCCA1D#32
  | 21 => 0x3EA14BAB#32
  | 22 => 0xBF9452ED#32
  | 23 => 0x40150EFD#32
  | 24 => 0x3F994230#32
  | 25 => 0xBC085661#32
  | 26 => 0x3F270EDC#32
  | 27 => 0xBF3734F5#32
  | 28 => 0x3EA333BA#32
  | 29 => 0x3E913FB0#32
  | 30 => 0xBE00B20F#32
  | 31 => 0x3F31E647#32
  | 32 => 0xBF81803E#32
  | 33 => 0x3E83CDA4#32
  | 34 => 0x3FB1AA7F#32
  | 35 => 0xBF473FA6#32
  | 36 => 0x3EB51822#32
  | 37 => 0x3D2C6626#32
  | 38 => 0x3ECAD81A#32
  | 39 => 0x3FBCFACE#32
  | 40 => 0x3E395176#32
  | 41 => 0x3FA08616#32
  | 42 => 0x3ED9E8A9#32
  | 43 => 0xBF314015#32
  | 44 => 0x4025BED8#32
  | 45 => 0x3FF55C30#32
  | 46 => 0xBF2E760E#32
  | 47 => 0x3E30E7C5#32
  | 48 => 0xBEE3741A#32
  | 49 => 0x3F974A86#32
  | 50 => 0xBF47B2F7#32
  | 51 => 0xBF9F758C#32
  | 52 => 0xBE69E013#32
  | 53 => 0x3FEBD61C#32
  | 54 => 0x3E79BF2A#32
  | 55 => 0x3EA088C0#32
  | 56 => 0x40125E8A#32
  | 57 => 0x3F3D9517#32
  | 58 => 0x400E1F4F#32
  | 59 => 0xBF949E46#32
  | 60 => 0x3FF8E88E#32
  | 61 => 0x3EEFF62E#32
  | 62 => 0x3E6BAD0F#32
  | 63 => 0xBF048ED9#32
  | 64 => 0x3F3B6685#32
  | 65 => 0x40046EFD#32
  | 66 => 0x3F87905A#32
  | 67 => 0x3F1B8F45#32
  | 68 => 0x3DFF0066#32
  | 69 => 0xBE81B101#32
  | 70 => 0xBE110A24#32
  | 71 => 0x3F0EFAC1#32
  | 72 => 0x3FE961E3#32
  | 73 => 0x3FE214D4#32
  | 74 => 0x3C9AF1E5#32
  | 75 => 0xBDE963D9#32
  | 76 => 0xBEF30178#32
  | 77 => 0xBE5576FA#32
  | 78 => 0x402E29E3#32
  | 79 => 0x3F712211#32
  | 80 => 0xBF6DB476#32
  | 81 => 0x3FF35A96#32
  | 82 => 0x3E2147B1#32
  | 83 => 0xBE87D683#32
  | 84 => 0x3DF5CB4A#32
  | 85 => 0xBF00F1C6#32
  | 86 => 0x4015CC2F#32
  | 87 => 0x3E3F5974#32
  | 88 => 0x3EBB955F#32
  | 89 => 0xBE380DA0#32
  | 90 => 0x3F91A6AB#32
  | 91 => 0x3F564E6A#32
  | 92 => 0x3DDCF292#32
  | 93 => 0xBECEB8EC#32
  | 94 => 0x3FE87929#32
  | 95 => 0xBF336B72#32
  | 96 => 0x3F949110#32
  | 97 => 0xBF911D86#32
  | 98 => 0x3ECCEC19#32
  | 99 => 0x3D6948B6#32
  | 100 => 0x409F3282#32
  | 101 => 0x3F5EEB5E#32
  | 102 => 0x3F177DAC#32
  | 103 => 0xBD0FD51F#32
  | 104 => 0xBF095988#32
  | 105 => 0x3FA4DDC3#32
  | 106 => 0x3FDB2982#32
  | 107 => 0x4027AB63#32
  | 108 => 0xBF92D203#32
  | 109 => 0x3D84474E#32
  | 110 => 0xBF8E8555#32
  | 111 => 0x3D837745#32
  | 112 => 0x3EE8C9B1#32
  | 113 => 0x3E47F197#32
  | 114 => 0x3F9633E9#32
  | 115 => 0x4023A3C2#32
  | 116 => 0xBF6DAAE0#32
  | 117 => 0x4008FAED#32
  | 118 => 0x3EF47216#32
  | 119 => 0x3FC30443#32
  | 120 => 0x3E1A27D5#32
  | 121 => 0xBE8D4999#32
  | 122 => 0xBF9E99E2#32
  | 123 => 0x3F4E1F0B#32
  | 124 => 0xBF1A6B43#32
  | 125 => 0xBE87E1E6#32
  | 126 => 0x3FCAC2C4#32
  | 127 => 0x3E9496C1#32
  | _ => 0#32

noncomputable abbrev lit0t0_636 (i : Nat) : BitVec 32 := match i % 128 with
  | 0 => 0x403CBA41#32
  | 1 => 0xBED7DFF2#32
  | 2 => 0xBF852249#32
  | 3 => 0xBF6C0726#32
  | 4 => 0x403363DB#32
  | 5 => 0xBF3D2E6D#32
  | 6 => 0xBFB993F2#32
  | 7 => 0xBDB9E484#32
  | 8 => 0xBF759A08#32
  | 9 => 0xBF1B0A7A#32
  | 10 => 0xBF182760#32
  | 11 => 0x3F850576#32
  | 12 => 0x3F15C820#32
  | 13 => 0x3FD18F41#32
  | 14 => 0x3FAE31F6#32
  | 15 => 0xBE60E5E0#32
  | 16 => 0x3D14C2C2#32
  | 17 => 0x3F344084#32
  | 18 => 0xBD9161A2#32
  | 19 => 0xBEE844AA#32
  | 20 => 0xBC9AE443#32
  | 21 => 0xBE9E1181#32
  | 22 => 0x3F576F81#32
  | 23 => 0xBEB283B3#32
  | 24 => 0x3E4A2454#32
  | 25 => 0x3FEE54BA#32
  | 26 => 0xBDFB2772#32
  | 27 => 0x3FD1ABE6#32
  | 28 => 0x407E2AC3#32
  | 29 => 0x3FABFBB4#32
  | 30 => 0xBDE14379#32
  | 31 => 0xBF855988#32
  | 32 => 0xBEB1EC98#32
  | 33 => 0xBF7447A6#32
  | 34 => 0xBF48E8F5#32
  | 35 => 0x3EB6DC1D#32
  | 36 => 0xBEB3DEF0#32
  | 37 => 0x3FA91694#32
  | 38 => 0x3FBE578C#32
  | 39 => 0x3F9427F5#32
  | 40 => 0xBF12CF16#32
  | 41 => 0xBF17B752#32
  | 42 => 0xBF873608#32
  | 43 => 0x3FCD131A#32
  | 44 => 0x3F0FF4D6#32
  | 45 => 0x4006F178#32
  | 46 => 0x3F96EA43#32
  | 47 => 0x40460696#32
  | 48 => 0x402980A7#32
  | 49 => 0x3ED1E1B2#32
  | 50 => 0xBFBC8444#32
  | 51 => 0x3F2F424A#32
  | 52 => 0x3F25483F#32
  | 53 => 0xBF0474FF#32
  | 54 => 0xBF4E057E#32
  | 55 => 0x3FAC7C15#32
  | 56 => 0x3EBF9222#32
  | 57 => 0x3FD3A6A7#32
  | 58 => 0x3F3C758B#32
  | 59 => 0x3F379E08#32
  | 60 => 0xBEFE8B35#32
  | 61 => 0xBFCCB7F2#32
  | 62 => 0xBF9D11CD#32
  | 63 => 0x3E73F276#32
  | 64 => 0x3F5768E4#32
  | 65 => 0x3FDC8193#32
  | 66 => 0x3F9A7A7A#32
  | 67 => 0x3F72A212#32
  | 68 => 0x3F1C554C#32
  | 69 => 0xBF80BD0B#32
  | 70 => 0x40982496#32
  | 71 => 0x3F99FAE5#32
  | 72 => 0x3F3C2AFC#32
  | 73 => 0x3FF079DF#32
  | 74 => 0xBF028A55#32
  | 75 => 0x3FB07642#32
  | 76 => 0x3FF2559A#32
  | 77 => 0x3D8C3297#32
  | 78 => 0xBF5FA258#32
  | 79 => 0x3FBB3842#32
  | 80 => 0x3EC12662#32
  | 81 => 0x3F20BD29#32
  | 82 => 0x3FB95F55#32
  | 83 => 0x3F80FF37#32
  | 84 => 0xBD4386CE#32
  | 85 => 0x3FF38252#32
  | 86 => 0x3E84797D#32
  | 87 => 0xBE7EFCF3#32
  | 88 => 0x3E391B08#32
  | 89 => 0x3F88B314#32
  | 90 => 0x3E49C912#32
  | 91 => 0xBF431E6C#32
  | 92 => 0xBEE3E5C8#32
  | 93 => 0xBE3CC311#32
  | 94 => 0x3F2574B0#32
  | 95 => 0xBE2A16CC#32
  | 96 => 0x4098ADCF#32
  | 97 => 0x3F3D609A#32
  | 98 => 0xBF89A5E3#32
  | 99 => 0xBFD07004#32
  | 100 => 0x407BF6AF#32
  | 101 => 0x3BC71989#32
  | 102 => 0xBFC2DF20#32
  | 103 => 0x3E4CCABC#32
  | 104 => 0x400B272C#32
  | 105 => 0x3FE79520#32
  | 106 => 0x3F3F4C42#32
  | 107 => 0xBD91DAC5#32
  | 108 => 0x4114061F#32
  | 109 => 0x3F907AF8#32
  | 110 => 0x4020B1A5#32
  | 111 => 0x3EADC3CE#32
  | 112 => 0xBF043D72#32
  | 113 => 0xBF02BDDC#32
  | 114 => 0x3F85A6D2#32
  | 115 => 0x403754A6#32
  | 116 => 0x3F7C443C#32
  | 117 => 0x3F5F5C56#32
  | 118 => 0x3D4E1DB0#32
  | 119 => 0x3FDD8C55#32
  | 120 => 0x3FB8F166#32
  | 121 => 0x3FE8A2F3#32
  | 122 => 0x3E7AE2BD#32
  | 123 => 0x3F17D4EA#32
  | 124 => 0x3FE44201#32
  | 125 => 0xBF5A1FA8#32
  | 126 => 0x3ED8ADF2#32
  | 127 => 0x3EF7ED32#32
  | _ => 0#32

noncomputable abbrev lit0t0_637 (i : Nat) : BitVec 32 := match i % 128 with
  | 0 => 0x3F597C96#32
  | 1 => 0xBBF9CDA0#32
  | 2 => 0xBF607FE5#32
  | 3 => 0x3F2B9C07#32
  | 4 => 0x40494EF4#32
  | 5 => 0x3D4D3A5F#32
  | 6 => 0x3F563914#32
  | 7 => 0x403E5329#32
  | 8 => 0xBF90E073#32
  | 9 => 0x3F884C53#32
  | 10 => 0x3F05B4F5#32
  | 11 => 0x3FA9A428#32
  | 12 => 0x3F3AC12A#32
  | 13 => 0x3E5AE346#32
  | 14 => 0xBFBAC1FD#32
  | 15 => 0x4025AD74#32
  | 16 => 0x4060C46C#32
  | 17 => 0xBEA54086#32
  | 18 => 0x3FE5C446#32
  | 19 => 0x401E53E5#32
  | 20 => 0xBE959D32#32
  | 21 => 0x3EAD32CD#32
  | 22 => 0xBF864200#32
  | 23 => 0x3F4B7488#32
  | 24 => 0x405E1C54#32
  | 25 => 0xBF8DF30C#32
  | 26 => 0xBF21232D#32
  | 27 => 0x3F8DB006#32
  | 28 => 0x3F8A861C#32
  | 29 => 0xBE50BB49#32
  | 30 => 0xBFD17F24#32
  | 31 => 0x3FD6EADA#32
  | 32 => 0xBF46D718#32
  | 33 => 0x3FFBC2F7#32
  | 34 => 0x3FED9700#32
  | 35 => 0x3EBE2A1E#32
  | 36 => 0x3F4B455E#32
  | 37 => 0x3EA6A292#32
  | 38 => 0x3EA8A7B9#32
  | 39 => 0xBEC4A24E#32
  | 40 => 0xBF8AB728#32
  | 41 => 0x40462F0B#32
  | 42 => 0x3FC9C186#32
  | 43 => 0x3FA8FB8F#32
  | 44 => 0xBF5C7AA6#32
  | 45 => 0x3FB9F74F#32
  | 46 => 0x3F3E9B01#32
  | 47 => 0x3F837C86#32
  | 48 => 0x3EC6C537#32
  | 49 => 0x406A1B28#32
  | 50 => 0xBE2FE74E#32
  | 51 => 0x400EF056#32
  | 52 => 0xBEA73133#32
  | 53 => 0x3E96EC11#32
  | 54 => 0x3F8B0CAB#32
  | 55 => 0x4061A162#32
  | 56 => 0xBF3E55D4#32
  | 57 => 0x3F6F9D98#32
  | 58 => 0xBF30C094#32
  | 59 => 0x3E680421#32
  | 60 => 0x3F5E656C#32
  | 61 => 0xBF039FF2#32
  | 62 => 0xBF14CFE9#32
  | 63 => 0xBD669500#32
  | 64 => 0xBFBD6648#32
  | 65 => 0x3D69C5F8#32
  | 66 => 0x3E9396A1#32
  | 67 => 0xBDF89C26#32
  | 68 => 0x3F1C4519#32
  | 69 => 0x3F633F29#32
  | 70 => 0x3F61C073#32
  | 71 => 0xBFA65705#32
  | 72 => 0xBDC4BC73#32
  | 73 => 0x3FD52338#32
  | 74 => 0x3E7C8766#32
  | 75 => 0xBEA93D1A#32
  | 76 => 0xBF9B7CCF#32
  | 77 => 0x3FF89DE5#32
  | 78 => 0x3F200B06#32
  | 79 => 0x3EDC9CC8#32
  | 80 => 0xBFA47D97#32
  | 81 => 0x3F8E09CF#32
  | 82 => 0x3E291C63#32
  | 83 => 0x3FB07D80#32
  | 84 => 0xBE3ABA61#32
  | 85 => 0xBEC0106C#32
  | 86 => 0x3E2E040D#32
  | 87 => 0x3F5B93E9#32
  | 88 => 0x40150C3F#32
  | 89 => 0x3F0B8428#32
  | 90 => 0x3F55E2B0#32
  | 91 => 0x3F7D4F8A#32
  | 92 => 0xBF5A4EDE#32
  | 93 => 0xBED39103#32
  | 94 => 0x3F19C6E3#32
  | 95 => 0x3EAE4A7D#32
  | 96 => 0x3D3882E8#32
  | 97 => 0xBF9D2860#32
  | 98 => 0xBEDFB392#32
  | 99 => 0x3EB7AB68#32
  | 100 => 0x3CB539A7#32
  | 101 => 0x3FFD98DB#32
  | 102 => 0x3F613106#32
  | 103 => 0x3FBBCE3D#32
  | 104 => 0x3EE6CB3E#32
  | 105 => 0x3F66DC7E#32
  | 106 => 0xBEE41482#32
  | 107 => 0x3E84493A#32
  | 108 => 0x3F3299F1#32
  | 109 => 0xBE66F331#32
  | 110 => 0x3F668105#32
  | 111 => 0x3FC63A29#32
  | 112 => 0x3EFBFD17#32
  | 113 => 0x3DDD0064#32
  | 114 => 0x3FAC5049#32
  | 115 => 0xBF1D1985#32
  | 116 => 0xBFA7FB9A#32
  | 117 => 0x3EEE27DA#32
  | 118 => 0x3EF2A9A3#32
  | 119 => 0xBE8E0A10#32
  | 120 => 0x3FDAD9D6#32
  | 121 => 0xBF8B2C94#32
  | 122 => 0x3DEB392A#32
  | 123 => 0x3E95BFCD#32
  | 124 => 0x3F60ED1A#32
  | 125 => 0x3E3FCC22#32
  | 126 => 0xBF02823F#32
  | 127 => 0xBE810AFE#32
  | _ => 0#32

noncomputable abbrev lit0t0_638 (i : Nat) : BitVec 32 := match i % 128 with
  | 0 => 0xBF055296#32
  | 1 => 0x3FA3D429#32
  | 2 => 0x3E985566#32
  | 3 => 0x3F4B9F70#32
  | 4 => 0x3FA5B80E#32
  | 5 => 0xBE65638B#32
  | 6 => 0x3F8FC544#32
  | 7 => 0x40280695#32
  | 8 => 0x3F202740#32
  | 9 => 0xBF4AF0EC#32
  | 10 => 0xBF1705A4#32
  | 11 => 0xBF08008E#32
  | 12 => 0xBF0A4B72#32
  | 13 => 0x3EC8E8BF#32
  | 14 => 0xBECC97FA#32
  | 15 => 0xBF911BEB#32
  | 16 => 0x3F09C521#32
  | 17 => 0xBF86B66D#32
  | 18 => 0xBD94AB20#32
  | 19 => 0x3F3E985C#32
  | 20 => 0xBF089446#32
  | 21 => 0x400220D2#32
  | 22 => 0x3F5694A1#32
  | 23 => 0x3B6BB763#32
  | 24 => 0x3EB7E23E#32
  | 25 => 0x3FA3AAE2#32
  | 26 => 0xBEDB7368#32
  | 27 => 0xBEF393E8#32
  | 28 => 0x3FF58656#32
  | 29 => 0x3EA7473C#32
  | 30 => 0x404BCE05#32
  | 31 => 0x40B6C16A#32
  | 32 => 0x3E72265B#32
  | 33 => 0xBFC1953C#32
  | 34 => 0x4087CF18#32
  | 35 => 0xBFB020F4#32
  | 36 => 0x3F94B3C4#32
  | 37 => 0x3FC7418B#32
  | 38 => 0x40178373#32
  | 39 => 0x3FE0EED5#32
  | 40 => 0x3EE22416#32
  | 41 => 0x4004243D#32
  | 42 => 0x3F1EB90E#32
  | 43 => 0x3E86F2D6#32
  | 44 => 0x3E4A2134#32
  | 45 => 0x3E1C421D#32
  | 46 => 0xBE317208#32
  | 47 => 0xBD16A80E#32
  | 48 => 0xBD7B9622#32
  | 49 => 0x402D1E96#32
  | 50 => 0xBFA3653E#32
  | 51 => 0xBF94EE89#32
  | 52 => 0xBF8A8520#32
  | 53 => 0xBEFDE9DD#32
  | 54 => 0xBF9C8F52#32
  | 55 => 0xBF66333F#32
  | 56 => 0x3FD12E31#32
  | 57 => 0xBF9CE219#32
  | 58 => 0x3E722B11#32
  | 59 => 0x40654926#32
  | 60 => 0xBEBF0AD2#32
  | 61 => 0xBF18161E#32
  | 62 => 0x3FC8EA8F#32
  | 63 => 0xBF0F204B#32
  | 64 => 0xBDDDFE25#32
  | 65 => 0x3F5C3006#32
  | 66 => 0xBF1DACEC#32
  | 67 => 0xBF1CDD4D#32
  | 68 => 0xBF987914#32
  | 69 => 0xBDA0B5FF#32
  | 70 => 0xBDDDA6A7#32
  | 71 => 0x3FEC2E10#32
  | 72 => 0x3EBE7E56#32
  | 73 => 0x3FBCCF78#32
  | 74 => 0xBE8C45C1#32
  | 75 => 0x3EE0C767#32
  | 76 => 0x3FB48CFB#32
  | 77 => 0xBF867781#32
  | 78 => 0xBF6CAF32#32
  | 79 => 0x3F9F3A4A#32
  | 80 => 0x3FEC96EF#32
  | 81 => 0xBCBDFCE0#32
  | 82 => 0x3F7F8BB6#32
  | 83 => 0x3FF3142F#32
  | 84 => 0x3F887518#32
  | 85 => 0xBFD5EDCC#32
  | 86 => 0xBF2AF537#32
  | 87 => 0x3F4DE533#32
  | 88 => 0xBEAB9F5D#32
  | 89 => 0xBEA28EB2#32
  | 90 => 0x4033E0E4#32
  | 91 => 0xBF71B6AE#32
  | 92 => 0x401918C1#32
  | 93 => 0xBF6B8F78#32
  | 94 => 0x3DD8A3B2#32
  | 95 => 0x3E2B7C2E#32
  | 96 => 0xBE829F77#32
  | 97 => 0x3F91CC80#32
  | 98 => 0x3F04F768#32
  | 99 => 0x403FBEB0#32
  | 100 => 0xBF9339DB#32
  | 101 => 0x3EC54A21#32
  | 102 => 0x3E0F27BC#32
  | 103 => 0x3D306484#32
  | 104 => 0xBE9DB1C6#32
  | 105 => 0x3FD55540#32
  | 106 => 0xBF0A6A52#32
  | 107 => 0xBDA184E0#32
  | 108 => 0x3FF6B59E#32
  | 109 => 0xBEC814A9#32
  | 110 => 0x3FCBEEE7#32
  | 111 => 0x3D272B5A#32
  | 112 => 0xBF02A58A#32
  | 113 => 0x40BBE0F7#32
  | 114 => 0x3F7D292D#32
  | 115 => 0xBEAB215C#32
  | 116 => 0xBF030C03#32
  | 117 => 0x3FB3D04E#32
  | 118 => 0x3F4CB4AF#32
  | 119 => 0xBF3C1ADB#32
  | 120 => 0xBE7CFC71#32
  | 121 => 0xBF8DFEB1#32
  | 122 => 0x3FE1CF40#32
  | 123 => 0xBDB0BDF0#32
  | 124 => 0x40593F47#32
  | 125 => 0x3F9BE90C#32
  | 126 => 0x3F93AAC2#32
  | 127 => 0xBECDAD76#32
  | _ => 0#32

noncomputable abbrev lit0t0_639 (i : Nat) : BitVec 32 := match i % 128 with
  | 0 => 0x3F5873D5#32
  | 1 => 0x3F7C66BC#32
  | 2 => 0x3F3366CC#32
  | 3 => 0x4025DC0C#32
  | 4 => 0x3F4BBB9A#32
  | 5 => 0x3FE1DB7C#32
  | 6 => 0x3F7A7293#32
  | 7 => 0x3F916364#32
  | 8 => 0x407508A8#32
  | 9 => 0x40867C04#32
  | 10 => 0x40219CC1#32
  | 11 => 0x3DD29A35#32
  | 12 => 0x3F514CAE#32
  | 13 => 0x4003B12E#32
  | 14 => 0x4041DAEC#32
  | 15 => 0x3F6AE927#32
  | 16 => 0xBFAD0C4C#32
  | 17 => 0x3FB73FFD#32
  | 18 => 0x3F6B2572#32
  | 19 => 0x4006C43A#32
  | 20 => 0xBF5503A1#32
  | 21 => 0xBE73A4C8#32
  | 22 => 0x3F1CEDCD#32
  | 23 => 0xBF4E9AC8#32
  | 24 => 0x3E7A8024#32
  | 25 => 0x3F2A364F#32
  | 26 => 0x3F84F42E#32
  | 27 => 0x405E2069#32
  | 28 => 0xBE2FB4E6#32
  | 29 => 0xBE038EC0#32
  | 30 => 0x3F99582B#32
  | 31 => 0x3F6E4CEC#32
  | 32 => 0xBF9B47D8#32
  | 33 => 0x4007FF95#32
  | 34 => 0x3FA7B853#32
  | 35 => 0x3FCC4D3B#32
  | 36 => 0xBFA1A42A#32
  | 37 => 0x400148E3#32
  | 38 => 0xBF6A250D#32
  | 39 => 0x3ECE0D5B#32
  | 40 => 0x40819E7D#32
  | 41 => 0xBF1DE939#32
  | 42 => 0x3E516059#32
  | 43 => 0x3FAE5394#32
  | 44 => 0xBEC0E1E8#32
  | 45 => 0x3F86E76F#32
  | 46 => 0x400476D1#32
  | 47 => 0x401E0D06#32
  | 48 => 0x403044FD#32
  | 49 => 0xBF5952CC#32
  | 50 => 0xBF58217A#32
  | 51 => 0x40DB28BC#32
  | 52 => 0x40428766#32
  | 53 => 0x3D2E85B0#32
  | 54 => 0x3FAB4A2F#32
  | 55 => 0x3F8DE524#32
  | 56 => 0x3FBFD969#32
  | 57 => 0x3F5ECAFA#32
  | 58 => 0xBF437077#32
  | 59 => 0x3F8CE668#32
  | 60 => 0xBD96791F#32
  | 61 => 0x40486EC6#32
  | 62 => 0xBDF33EFA#32
  | 63 => 0x3EAACE66#32
  | 64 => 0x403D23CE#32
  | 65 => 0xBFB2417A#32
  | 66 => 0xBF4369C6#32
  | 67 => 0x3E144692#32
  | 68 => 0x3ED6ADDB#32
  | 69 => 0x401D05A5#32
  | 70 => 0xBF054BCA#32
  | 71 => 0x3F104EE2#32
  | 72 => 0x3FB3EE7D#32
  | 73 => 0x3F3FF352#32
  | 74 => 0x4050CB76#32
  | 75 => 0x3FE36406#32
  | 76 => 0xBF5E6801#32
  | 77 => 0xBF957D87#32
  | 78 => 0x3E24A07D#32
  | 79 => 0xBF7A6902#32
  | 80 => 0x3E8162BD#32
  | 81 => 0x3EAF403C#32
  | 82 => 0x3C67A4BE#32
  | 83 => 0x4021E5D7#32
  | 84 => 0xBF3F947D#32
  | 85 => 0x4000D27A#32
  | 86 => 0x3EA8BB7B#32
  | 87 => 0x3E66AB13#32
  | 88 => 0xBF548A2C#32
  | 89 => 0x3FA2016A#32
  | 90 => 0xBFD75F0F#32
  | 91 => 0x3FC518F9#32
  | 92 => 0x3FE2CF9B#32
  | 93 => 0x3E5FB48F#32
  | 94 => 0x404353E0#32
  | 95 => 0x3E6F7267#32
  | 96 => 0x3F31C785#32
  | 97 => 0xBFADAA03#32
  | 98 => 0x404A9993#32
  | 99 => 0x3FE1557A#32
  | 100 => 0x40785C15#32
  | 101 => 0xC007624C#32
  | 102 => 0x3F8B13EF#32
  | 103 => 0x40853801#32
  | 104 => 0x3F4FDF00#32
  | 105 => 0x400A43EA#32
  | 106 => 0x3F502932#32
  | 107 => 0x3EFAAC3C#32
  | 108 => 0x3F88CFE2#32
  | 109 => 0xBDE266C4#32
  | 110 => 0xBDA2DD03#32
  | 111 => 0xBE7F3438#32
  | 112 => 0xBF3FAD11#32
  | 113 => 0xBF0227C4#32
  | 114 => 0x3D501BA6#32
  | 115 => 0xBF19271D#32
  | 116 => 0x40970E48#32
  | 117 => 0x3DB64370#32
  | 118 => 0x3EB3DF45#32
  | 119 => 0x3F934716#32
  | 120 => 0x3FFBB266#32
  | 121 => 0x3EAAC006#32
  | 122 => 0x3F509930#32
  | 123 => 0x3E1B5880#32
  | 124 => 0x3E5EACBC#32
  | 125 => 0x3FA4350B#32
  | 126 => 0xBEADAE0F#32
  | 127 => 0x3F60B55C#32
  | _ => 0#32

noncomputable abbrev lit0t0_640 (i : Nat) : BitVec 32 := match i % 128 with
  | 0 => 0xBE460BB5#32
  | 1 => 0x40395129#32
  | 2 => 0x3F953852#32
  | 3 => 0xBF3BD651#32
  | 4 => 0xBF8479A0#32
  | 5 => 0x3FDD9CA8#32
  | 6 => 0x3F99A51F#32
  | 7 => 0x3F969082#32
  | 8 => 0x4012A76A#32
  | 9 => 0xBF27355A#32
  | 10 => 0x3EF1721A#32
  | 11 => 0xBE55DC1C#32
  | 12 => 0x3F39A8A7#32
  | 13 => 0x3F1F833E#32
  | 14 => 0x400377A9#32
  | 15 => 0xBE9CA438#32
  | 16 => 0x3E5356EE#32
  | 17 => 0x3DD7F7D9#32
  | 18 => 0xBF776B76#32
  | 19 => 0xBE3BE403#32
  | 20 => 0x3EFE76B3#32
  | 21 => 0x400960CC#32
  | 22 => 0x3FAECE31#32
  | 23 => 0x3EC3DA26#32
  | 24 => 0xBF88C3A2#32
  | 25 => 0x3F843420#32
  | 26 => 0x400DAB7B#32
  | 27 => 0x3FC65CAE#32
  | 28 => 0xBFE60640#32
  | 29 => 0x3F5153CF#32
  | 30 => 0xBE900B9E#32
  | 31 => 0xBF39B70C#32
  | 32 => 0x3FDDA738#32
  | 33 => 0x3DD7FD29#32
  | 34 => 0x3E130E1D#32
  | 35 => 0x3E60C5C1#32
  | 36 => 0xBFB4E8B2#32
  | 37 => 0x3F39F254#32
  | 38 => 0x40343E41#32
  | 39 => 0x405043DE#32
  | 40 => 0x3F3FBF9C#32
  | 41 => 0xBF208F62#32
  | 42 => 0xBEA3E439#32
  | 43 => 0x3F364D9B#32
  | 44 => 0x3EB31A07#32
  | 45 => 0x4028887A#32
  | 46 => 0x40217A15#32
  | 47 => 0x3F1F1ADA#32
  | 48 => 0x3ECEE44E#32
  | 49 => 0xBE9DA179#32
  | 50 => 0x3FD229CF#32
  | 51 => 0x3F908060#32
  | 52 => 0x3F9E3BC8#32
  | 53 => 0x3EECEED6#32
  | 54 => 0x3FB548DC#32
  | 55 => 0xBF21CEFF#32
  | 56 => 0x3FC93E7E#32
  | 57 => 0x3DD6A344#32
  | 58 => 0x3C192871#32
  | 59 => 0xBFBEDEBF#32
  | 60 => 0x3F3938D0#32
  | 61 => 0xBF12E393#32
  | 62 => 0x4019C56D#32
  | 63 => 0x3EF7D59D#32
  | 64 => 0xBF448F0B#32
  | 65 => 0x3FD9DEBE#32
  | 66 => 0x400D395D#32
  | 67 => 0xBF0A9B96#32
  | 68 => 0x3F75BA65#32
  | 69 => 0xBE288FF4#32
  | 70 => 0xBE816D68#32
  | 71 => 0x3F835C3C#32
  | 72 => 0xBF941923#32
  | 73 => 0xBE37CD7E#32
  | 74 => 0x3F826110#32
  | 75 => 0x3F0B3C60#32
  | 76 => 0xBEA6C147#32
  | 77 => 0xBED6F7F2#32
  | 78 => 0x3EDDFC27#32
  | 79 => 0x3E4CDAEB#32
  | 80 => 0x3F827C2C#32
  | 81 => 0x3D7D2FC7#32
  | 82 => 0xBF80D932#32
  | 83 => 0x405CD110#32
  | 84 => 0xBF72D854#32
  | 85 => 0x3FB852CD#32
  | 86 => 0x3FF46458#32
  | 87 => 0x3FB87E49#32
  | 88 => 0xBE287017#32
  | 89 => 0xBFBD6089#32
  | 90 => 0x400CE36A#32
  | 91 => 0x3FEAD5C1#32
  | 92 => 0x3FCB4458#32
  | 93 => 0x401C4816#32
  | 94 => 0x3F7678DC#32
  | 95 => 0x3EE70CB0#32
  | 96 => 0x3FD18074#32
  | 97 => 0x3F2D5B0D#32
  | 98 => 0x402BE3EE#32
  | 99 => 0xBDB4BBEC#32
  | 100 => 0x3F9E0305#32
  | 101 => 0x3EEEF229#32
  | 102 => 0x3FED2541#32
  | 103 => 0xBEEC57FD#32
  | 104 => 0x3F0FA0D4#32
  | 105 => 0x3E822682#32
  | 106 => 0x3F0C7A4C#32
  | 107 => 0xBECB59E9#32
  | 108 => 0xBFBD909E#32
  | 109 => 0xBF6EF8CA#32
  | 110 => 0x3F7016BC#32
  | 111 => 0x3FD98A35#32
  | 112 => 0xBF2A1560#32
  | 113 => 0xBFE4CD28#32
  | 114 => 0x3FACCADC#32
  | 115 => 0x3E4AE675#32
  | 116 => 0x3EC6C2AC#32
  | 117 => 0xBDF1B2C6#32
  | 118 => 0xBF331113#32
  | 119 => 0x3F0E3B63#32
  | 120 => 0xBFCA7182#32
  | 121 => 0x3EBF13CC#32
  | 122 => 0x3EAF7C4E#32
  | 123 => 0xBE5EFBED#32
  | 124 => 0x3F374665#32
  | 125 => 0xBF7776EA#32
  | 126 => 0x404C1F65#32
  | 127 => 0xBE47577A#32
  | _ => 0#32

noncomputable abbrev lit0t0_641 (i : Nat) : BitVec 32 := match i % 128 with
  | 0 => 0xBF58BC31#32
  | 1 => 0x3F23E8B4#32
  | 2 => 0xBFC8A870#32
  | 3 => 0x406A7066#32
  | 4 => 0x3ED17E0B#32
  | 5 => 0x4049CD8F#32
  | 6 => 0xBEA2764B#32
  | 7 => 0x4061F014#32
  | 8 => 0x3DC269D8#32
  | 9 => 0x3FDA2C6A#32
  | 10 => 0xBEDD41BC#32
  | 11 => 0xBEA45D72#32
  | 12 => 0xBF08F573#32
  | 13 => 0x4023D2E1#32
  | 14 => 0x3E9AD4A8#32
  | 15 => 0x400A8565#32
  | 16 => 0xBCD2D9D8#32
  | 17 => 0x3E6E6F0D#32
  | 18 => 0xBED11532#32
  | 19 => 0x3F2D93DB#32
  | 20 => 0x4049580D#32
  | 21 => 0x3EB93639#32
  | 22 => 0x3E366635#32
  | 23 => 0x3ED9B982#32
  | 24 => 0xBF1F77F6#32
  | 25 => 0xBE9EC2C0#32
  | 26 => 0xBDD50CC0#32
  | 27 => 0x400A1960#32
  | 28 => 0x401DC4B4#32
  | 29 => 0xBE87F685#32
  | 30 => 0x3F17A96F#32
  | 31 => 0x40234853#32
  | 32 => 0x3F2F4F5D#32
  | 33 => 0x3D2C422B#32
  | 34 => 0xBEF465F0#32
  | 35 => 0x3EA55D0C#32
  | 36 => 0x40B0E7FD#32
  | 37 => 0x3F79498C#32
  | 38 => 0x3EF6F51C#32
  | 39 => 0x3F0EDBAA#32
  | 40 => 0xBE981273#32
  | 41 => 0xBF4C877D#32
  | 42 => 0xBFCC5369#32
  | 43 => 0x3F9D5105#32
  | 44 => 0xBFAB0307#32
  | 45 => 0x407978B1#32
  | 46 => 0x3DE6E876#32
  | 47 => 0xBE10D4EC#32
  | 48 => 0x3CEBB4D2#32
  | 49 => 0x3FFEB99C#32
  | 50 => 0x3FDA0E91#32
  | 51 => 0xBF8679AC#32
  | 52 => 0xBFAD812C#32
  | 53 => 0xBEE7AE24#32
  | 54 => 0x3E9157E9#32
  | 55 => 0x4084BC6E#32
  | 56 => 0x3F4841E2#32
  | 57 => 0x3FB9F146#32
  | 58 => 0x3DB6E911#32
  | 59 => 0x3D3D38BF#32
  | 60 => 0x3F7527CC#32
  | 61 => 0xBF798E94#32
  | 62 => 0x3F65536A#32
  | 63 => 0xBF789AFC#32
  | 64 => 0xBF77CF48#32
  | 65 => 0xBD2915E5#32
  | 66 => 0x408915FC#32
  | 67 => 0xBE618912#32
  | 68 => 0x3F0CF686#32
  | 69 => 0x409E0BF4#32
  | 70 => 0x3E17C3DF#32
  | 71 => 0x406D8D42#32
  | 72 => 0x4001C798#32
  | 73 => 0x3FC19269#32
  | 74 => 0x3F0B7BA4#32
  | 75 => 0x3EE67162#32
  | 76 => 0xBFA24718#32
  | 77 => 0x3E5163D1#32
  | 78 => 0xBF8D8C73#32
  | 79 => 0x3F9C4FA6#32
  | 80 => 0xBF6F5B80#32
  | 81 => 0xBEBBD030#32
  | 82 => 0xBE167D49#32
  | 83 => 0x3F940C75#32
  | 84 => 0xBE559357#32
  | 85 => 0xBF5D7B5E#32
  | 86 => 0xBFC235D6#32
  | 87 => 0x3DD06CB7#32
  | 88 => 0x3E2627FE#32
  | 89 => 0xBE587EEE#32
  | 90 => 0x3F67AE85#32
  | 91 => 0x3FFEED83#32
  | 92 => 0x40A7F34E#32
  | 93 => 0xBD8B526A#32
  | 94 => 0xBF0A3D14#32
  | 95 => 0x3EF454F3#32
  | 96 => 0x3F1CA2E5#32
  | 97 => 0xBFA34AB1#32
  | 98 => 0xBF0579CB#32
  | 99 => 0x3F820418#32
  | 100 => 0x3F5A9558#32
  | 101 => 0x3D39157F#32
  | 102 => 0xBF7EAAF6#32
  | 103 => 0x3D2A6715#32
  | 104 => 0xBF594DEB#32
  | 105 => 0x3F401136#32
  | 106 => 0xBE826475#32
  | 107 => 0xBF815C30#32
  | 108 => 0xBEFEBE22#32
  | 109 => 0x3FD0C02D#32
  | 110 => 0x3E893C38#32
  | 111 => 0x3FAD9C03#32
  | 112 => 0x3F02B09F#32
  | 113 => 0x3E9E9EA1#32
  | 114 => 0xBED83C8F#32
  | 115 => 0xBF37BFA9#32
  | 116 => 0x3F87C1B8#32
  | 117 => 0x3FEBAB94#32
  | 118 => 0xBEE2E8D0#32
  | 119 => 0x3F406690#32
  | 120 => 0x404D1B20#32
  | 121 => 0xBF58848B#32
  | 122 => 0x3FD005A2#32
  | 123 => 0x405274A2#32
  | 124 => 0x3F8D0D7C#32
  | 125 => 0xBF07F7A6#32
  | 126 => 0x3FB518B8#32
  | 127 => 0xBCF6807B#32
  | _ => 0#32

noncomputable abbrev lit0t0_642 (i : Nat) : BitVec 32 := match i % 128 with
  | 0 => 0x403566D8#32
  | 1 => 0x3F855546#32
  | 2 => 0x3F993490#32
  | 3 => 0xBF23E489#32
  | 4 => 0x3E01635C#32
  | 5 => 0xBEE14A2D#32
  | 6 => 0x3EE05E89#32
  | 7 => 0x403CA814#32
  | 8 => 0x3DB63653#32
  | 9 => 0xBD83E8E3#32
  | 10 => 0x3E9C448A#32
  | 11 => 0x3F7813F9#32
  | 12 => 0x3CC7D299#32
  | 13 => 0xBEAE2BBA#32
  | 14 => 0x402C2020#32
  | 15 => 0xBF661E06#32
  | 16 => 0x3FBDFCA8#32
  | 17 => 0x3FC088FC#32
  | 18 => 0x40577FD5#32
  | 19 => 0xBF08810B#32
  | 20 => 0x3E179DEE#32
  | 21 => 0x3F824072#32
  | 22 => 0xBF1F4F4F#32
  | 23 => 0x3C83538B#32
  | 24 => 0x3E5D18D3#32
  | 25 => 0x3F235CDA#32
  | 26 => 0x3E9CA97B#32
  | 27 => 0x3FC80388#32
  | 28 => 0x3F675313#32
  | 29 => 0x3F035060#32
  | 30 => 0xBF0CDF48#32
  | 31 => 0x3FD5FFFB#32
  | 32 => 0xBFA208C9#32
  | 33 => 0xBF523FA4#32
  | 34 => 0xBEAEB29A#32
  | 35 => 0x3EE526B9#32
  | 36 => 0x3C7FFBC7#32
  | 37 => 0xBF7DBCC4#32
  | 38 => 0x3D760A70#32
  | 39 => 0x3F40C902#32
  | 40 => 0x404931C1#32
  | 41 => 0x3F79350A#32
  | 42 => 0x3FBCAA80#32
  | 43 => 0x3F824E3C#32
  | 44 => 0x3DBEFE58#32
  | 45 => 0xBF79BDB2#32
  | 46 => 0xBF4FEDFA#32
  | 47 => 0x3F96E909#32
  | 48 => 0x3D50BE47#32
  | 49 => 0x3FE472DE#32
  | 50 => 0x3BA7EF7A#32
  | 51 => 0xBF1B8DF5#32
  | 52 => 0x400CEFAA#32
  | 53 => 0xBF12757C#32
  | 54 => 0x3E078FEE#32
  | 55 => 0xBF930BED#32
  | 56 => 0x3C9C95EE#32
  | 57 => 0xBEA78AD6#32
  | 58 => 0xBD88F329#32
  | 59 => 0xBEB76B34#32
  | 60 => 0xBFA81140#32
  | 61 => 0x3FDB422B#32
  | 62 => 0xBF261657#32
  | 63 => 0x3F0B3393#32
  | 64 => 0x402AEAF3#32
  | 65 => 0xBE48631B#32
  | 66 => 0xBF3167F4#32
  | 67 => 0x3EE8FBB7#32
  | 68 => 0xBE29D8A5#32
  | 69 => 0xBDF9C816#32
  | 70 => 0x3F5FFECE#32
  | 71 => 0xBD9CD137#32
  | 72 => 0x3CDC1200#32
  | 73 => 0xBEF3A334#32
  | 74 => 0x3FBB3EC4#32
  | 75 => 0x3EC48B62#32
  | 76 => 0x4047ED7B#32
  | 77 => 0x3EF8D480#32
  | 78 => 0x3F8146B3#32
  | 79 => 0xBF2A5D27#32
  | 80 => 0x3F27528E#32
  | 81 => 0x3F866206#32
  | 82 => 0x3F10A2F8#32
  | 83 => 0x4019DBE4#32
  | 84 => 0x4027D84D#32
  | 85 => 0x3ED88681#32
  | 86 => 0x3E89FE0B#32
  | 87 => 0x3FB7CF42#32
  | 88 => 0x3E94EF78#32
  | 89 => 0x3F8AA900#32
  | 90 => 0x3FAAB057#32
  | 91 => 0x3E6810C1#32
  | 92 => 0x3F2E8EE5#32
  | 93 => 0xBEA414EE#32
  | 94 => 0x3F56233D#32
  | 95 => 0xBF39AD69#32
  | 96 => 0x3FC990B3#32
  | 97 => 0x3F91FC12#32
  | 98 => 0x3F549E66#32
  | 99 => 0xBF2B87E9#32
  | 100 => 0x40229630#32
  | 101 => 0xBEEEA8EA#32
  | 102 => 0xBF2C8785#32
  | 103 => 0x3DA68F38#32
  | 104 => 0xBEDB2796#32
  | 105 => 0xBF7B23AA#32
  | 106 => 0x3D201786#32
  | 107 => 0xBF3AC7E1#32
  | 108 => 0x400D1165#32
  | 109 => 0x3F5F4435#32
  | 110 => 0xBF749355#32
  | 111 => 0x3F1F7480#32
  | 112 => 0xBD2FDAFC#32
  | 113 => 0x4043EED9#32
  | 114 => 0x3F5448F3#32
  | 115 => 0xBF7E4086#32
  | 116 => 0x3FEFDC87#32
  | 117 => 0x3F1EFE49#32
  | 118 => 0x3FD33C44#32
  | 119 => 0xBE17DE86#32
  | 120 => 0xBE950B18#32
  | 121 => 0x3DFF5A19#32
  | 122 => 0x3DD183E3#32
  | 123 => 0x3E8ACA70#32
  | 124 => 0xBEEEC9FA#32
  | 125 => 0x40229F69#32
  | 126 => 0x3F52FF7C#32
  | 127 => 0x4037C1BA#32
  | _ => 0#32

noncomputable abbrev lit0t0_643 (i : Nat) : BitVec 32 := match i % 128 with
  | 0 => 0xBF9F5923#32
  | 1 => 0x3F5A26D8#32
  | 2 => 0x3F8CE7D0#32
  | 3 => 0x3FB8EE21#32
  | 4 => 0x3E895D18#32
  | 5 => 0xBED06D2E#32
  | 6 => 0x3FA235E4#32
  | 7 => 0x3FF3BF9C#32
  | 8 => 0x401F69A6#32
  | 9 => 0x3F15DD53#32
  | 10 => 0x3F6CFB3C#32
  | 11 => 0x3FE93089#32
  | 12 => 0xBEDD888F#32
  | 13 => 0x3EE6F9A0#32
  | 14 => 0xBEEC0A6C#32
  | 15 => 0xBF221478#32
  | 16 => 0x3FF1BE3F#32
  | 17 => 0x3FC6B558#32
  | 18 => 0x3E0DD904#32
  | 19 => 0xBC47E58D#32
  | 20 => 0xBE704BC8#32
  | 21 => 0x3F2F1787#32
  | 22 => 0x3E8041FE#32
  | 23 => 0x3F66DABB#32
  | 24 => 0x406F120C#32
  | 25 => 0xBE85EFB0#32
  | 26 => 0x3EEB7002#32
  | 27 => 0xBF38C854#32
  | 28 => 0xBF24FDD8#32
  | 29 => 0x401DB42C#32
  | 30 => 0xBE8F6F2B#32
  | 31 => 0x3EF9D42E#32
  | 32 => 0x4024E8F8#32
  | 33 => 0x3F799FA1#32
  | 34 => 0x3F9E5947#32
  | 35 => 0x401C899F#32
  | 36 => 0x3FF104D8#32
  | 37 => 0xBF8FF835#32
  | 38 => 0x40224E0F#32
  | 39 => 0x3F6AC51E#32
  | 40 => 0x3F3C1684#32
  | 41 => 0x3E63CC72#32
  | 42 => 0xBF479C28#32
  | 43 => 0x3F82C9CA#32
  | 44 => 0x4012705D#32
  | 45 => 0x3FA4CD58#32
  | 46 => 0x3ECB104E#32
  | 47 => 0xBF45261B#32
  | 48 => 0x402EB89B#32
  | 49 => 0x3F95461E#32
  | 50 => 0xBE923CD0#32
  | 51 => 0x3FF4A08E#32
  | 52 => 0x407360A2#32
  | 53 => 0xBFD9E8A8#32
  | 54 => 0x3E9056BE#32
  | 55 => 0x3E135D79#32
  | 56 => 0xBF808D70#32
  | 57 => 0x400E57AE#32
  | 58 => 0xBF06DB96#32
  | 59 => 0x3F412E0F#32
  | 60 => 0xBF434903#32
  | 61 => 0x408FDF4B#32
  | 62 => 0x4062861F#32
  | 63 => 0x3FC93D21#32
  | 64 => 0x3EF7915A#32
  | 65 => 0x3F89827E#32
  | 66 => 0x3F748AB8#32
  | 67 => 0x4006B32B#32
  | 68 => 0xBF314349#32
  | 69 => 0x3F2F01A8#32
  | 70 => 0x3F88951D#32
  | 71 => 0x3E871F86#32
  | 72 => 0x3FD02B06#32
  | 73 => 0x3D2218A0#32
  | 74 => 0xBF91B2E6#32
  | 75 => 0xBE48A6E9#32
  | 76 => 0xBF0DE1BE#32
  | 77 => 0xBE3AA682#32
  | 78 => 0x400767F4#32
  | 79 => 0xBE23C0EB#32
  | 80 => 0x40047521#32
  | 81 => 0x3F3E2E00#32
  | 82 => 0xBDDD1FA1#32
  | 83 => 0x400EC8B7#32
  | 84 => 0x401B1365#32
  | 85 => 0xBF2B414A#32
  | 86 => 0x3F53B488#32
  | 87 => 0xBE9EA620#32
  | 88 => 0x3F4B4096#32
  | 89 => 0xBF21ED79#32
  | 90 => 0xBF82D150#32
  | 91 => 0x3FB745D3#32
  | 92 => 0x3E9FCF6A#32
  | 93 => 0xBEAB717E#32
  | 94 => 0x3F20626C#32
  | 95 => 0x3F3FAAD4#32
  | 96 => 0xBDE425BE#32
  | 97 => 0x3EA4BE32#32
  | 98 => 0xBFA68921#32
  | 99 => 0x4075E176#32
  | 100 => 0x3E967C87#32
  | 101 => 0x3FABBCE8#32
  | 102 => 0x3D45E01E#32
  | 103 => 0xBD6F9DC0#32
  | 104 => 0xBE6C4827#32
  | 105 => 0xBEA921E2#32
  | 106 => 0x3EBAB0D2#32
  | 107 => 0x3E235E50#32
  | 108 => 0x3EB958A0#32
  | 109 => 0x3F6F28E6#32
  | 110 => 0x3DFBAEB0#32
  | 111 => 0xBF5AD428#32
  | 112 => 0x3F2EFAE5#32
  | 113 => 0x3C95EF60#32
  | 114 => 0x3F3AFEE6#32
  | 115 => 0x3E4E52F6#32
  | 116 => 0x3E979DCF#32
  | 117 => 0x3F97AA2A#32
  | 118 => 0xBDE51E8B#32
  | 119 => 0xBF80571B#32
  | 120 => 0xBF081891#32
  | 121 => 0x4008ABF0#32
  | 122 => 0x3F9EBF9A#32
  | 123 => 0x400BF5C1#32
  | 124 => 0xBDADC486#32
  | 125 => 0x3F9D6546#32
  | 126 => 0x409EFD4F#32
  | 127 => 0xBE33F013#32
  | _ => 0#32

noncomputable abbrev lit0t0_644 (i : Nat) : BitVec 32 := match i % 128 with
  | 0 => 0xBF1D0BF4#32
  | 1 => 0x3E93B5E6#32
  | 2 => 0x3FB6230F#32
  | 3 => 0xBE2E1D73#32
  | 4 => 0xBECC2F95#32
  | 5 => 0x3F91D4D6#32
  | 6 => 0xBF417B30#32
  | 7 => 0x3F9B2894#32
  | 8 => 0xBF18F472#32
  | 9 => 0xBE422E5C#32
  | 10 => 0x406C4178#32
  | 11 => 0x3E8A6E34#32
  | 12 => 0x3F30CB5E#32
  | 13 => 0x4026DF22#32
  | 14 => 0xBE5D7631#32
  | 15 => 0xBF19C87E#32
  | 16 => 0xBE11BEE1#32
  | 17 => 0xBDCB2CB7#32
  | 18 => 0x3F1C7A90#32
  | 19 => 0x3F6E40E6#32
  | 20 => 0xBEAAE8B5#32
  | 21 => 0xBDE7969C#32
  | 22 => 0xBFB23E8A#32
  | 23 => 0x3F44FA28#32
  | 24 => 0x40170A31#32
  | 25 => 0x40F16263#32
  | 26 => 0x3EE1D715#32
  | 27 => 0xBF069DF2#32
  | 28 => 0xBF5A9274#32
  | 29 => 0x40239F83#32
  | 30 => 0x3FD301FB#32
  | 31 => 0x3F78E694#32
  | 32 => 0x3E886EE0#32
  | 33 => 0x3F8B7B85#32
  | 34 => 0x3FDDF8AE#32
  | 35 => 0x4066FA1C#32
  | 36 => 0xBE879252#32
  | 37 => 0xBE34AB63#32
  | 38 => 0x3FB4A47C#32
  | 39 => 0xBF6FE450#32
  | 40 => 0x3EA71437#32
  | 41 => 0x405DF203#32
  | 42 => 0xBE384FFC#32
  | 43 => 0xBDFE5B5E#32
  | 44 => 0x3F89F324#32
  | 45 => 0xBDEFB324#32
  | 46 => 0x3E07DBE8#32
  | 47 => 0x40188C77#32
  | 48 => 0x3F5D0968#32
  | 49 => 0x3F8A532E#32
  | 50 => 0xBEB089F5#32
  | 51 => 0x3FD33FEA#32
  | 52 => 0x3E3831C8#32
  | 53 => 0x40190C12#32
  | 54 => 0x3DD52745#32
  | 55 => 0xBEF661F5#32
  | 56 => 0x3FBA8B61#32
  | 57 => 0x40306D7C#32
  | 58 => 0xBE579B81#32
  | 59 => 0xBFB5C05B#32
  | 60 => 0xBD7D440E#32
  | 61 => 0xBE1C5602#32
  | 62 => 0xBF7C291A#32
  | 63 => 0x408C92F5#32
  | 64 => 0xBF8EF6A0#32
  | 65 => 0x3F2E2C21#32
  | 66 => 0xBF5A3D71#32
  | 67 => 0x3F06FB8C#32
  | 68 => 0x3E327598#32
  | 69 => 0x405DA7DD#32
  | 70 => 0x3FA21DFA#32
  | 71 => 0x3FC46365#32
  | 72 => 0x4026BB70#32
  | 73 => 0x3F22D75C#32
  | 74 => 0x3F7545F4#32
  | 75 => 0x3E5EDA25#32
  | 76 => 0xBE746392#32
  | 77 => 0x3EF24B02#32
  | 78 => 0x3F8087FD#32
  | 79 => 0xBECAAD9D#32
  | 80 => 0x3FAC89C5#32
  | 81 => 0x3D95D843#32
  | 82 => 0x3E89E844#32
  | 83 => 0x3EA6C097#32
  | 84 => 0xBF5A7082#32
  | 85 => 0x4084CF2B#32
  | 86 => 0x3EC4C9F3#32
  | 87 => 0x3EEAF2EC#32
  | 88 => 0x3FB31C69#32
  | 89 => 0xBF8479F9#32
  | 90 => 0x3D6D0512#32
  | 91 => 0x3E9A1BE9#32
  | 92 => 0x403A1264#32
  | 93 => 0x3E0C11C5#32
  | 94 => 0x3F1206DB#32
  | 95 => 0xBDE531E1#32
  | 96 => 0x3FA12035#32
  | 97 => 0x3EE012D3#32
  | 98 => 0xBF0E91C1#32
  | 99 => 0x3FC158F2#32
  | 100 => 0xBF2C8F15#32
  | 101 => 0xBF82FAD7#32
  | 102 => 0x3BD625C0#32
  | 103 => 0x4046796F#32
  | 104 => 0xBEEADCD1#32
  | 105 => 0xBFB12B4A#32
  | 106 => 0x3E67187C#32
  | 107 => 0xBE976AE2#32
  | 108 => 0x3F4A90E3#32
  | 109 => 0xBE86F3DC#32
  | 110 => 0xBF78340C#32
  | 111 => 0x3F30AA50#32
  | 112 => 0xBEAB4A6B#32
  | 113 => 0xBF66AF68#32
  | 114 => 0xBEB0480F#32
  | 115 => 0x3FC74EBF#32
  | 116 => 0x3E5D67EA#32
  | 117 => 0x40222AB1#32
  | 118 => 0x3F5F1F4F#32
  | 119 => 0xBF39CD8E#32
  | 120 => 0x3EB94326#32
  | 121 => 0x3F957DB1#32
  | 122 => 0xBF8F3280#32
  | 123 => 0x401860DB#32
  | 124 => 0xBF069928#32
  | 125 => 0x3FD1F042#32
  | 126 => 0x3F84C7A6#32
  | 127 => 0xBF8387E1#32
  | _ => 0#32

noncomputable abbrev lit0t0_645 (i : Nat) : BitVec 32 := match i % 128 with
  | 0 => 0x3F7EA8E7#32
  | 1 => 0x3EEF4BA5#32
  | 2 => 0x3E891176#32
  | 3 => 0x3FD89BF5#32
  | 4 => 0x3F49ED46#32
  | 5 => 0x4081C344#32
  | 6 => 0x3E2E00F5#32
  | 7 => 0x3F1ABA2E#32
  | 8 => 0x3EB55A10#32
  | 9 => 0xBEA1B8C4#32
  | 10 => 0x3E3A2EAC#32
  | 11 => 0xBD9AF2EB#32
  | 12 => 0x3F8AF281#32
  | 13 => 0x4071B669#32
  | 14 => 0x3FE47C3A#32
  | 15 => 0x3F581A5B#32
  | 16 => 0xBEDF89DC#32
  | 17 => 0xBFC1F35C#32
  | 18 => 0x3F546709#32
  | 19 => 0xBF0FD95C#32
  | 20 => 0xBD841D28#32
  | 21 => 0x3F6F7B48#32
  | 22 => 0x3F7F0FA2#32
  | 23 => 0x3CA3AA02#32
  | 24 => 0x3FFBD698#32
  | 25 => 0xBFB23CA4#32
  | 26 => 0x3EA4E309#32
  | 27 => 0x3F3E1646#32
  | 28 => 0xBF1315B7#32
  | 29 => 0x3F75524C#32
  | 30 => 0xBF44D286#32
  | 31 => 0x3FAEF4D5#32
  | 32 => 0x3FDC4829#32
  | 33 => 0x400915AD#32
  | 34 => 0xBE4FC12A#32
  | 35 => 0xBCEC01C8#32
  | 36 => 0xBD89F4C7#32
  | 37 => 0xBEE69756#32
  | 38 => 0x3ECEFAED#32
  | 39 => 0xBEEAA772#32
  | 40 => 0x405DCC93#32
  | 41 => 0x3F28A00E#32
  | 42 => 0x3F7085C1#32
  | 43 => 0x3F68AF3E#32
  | 44 => 0x3DDD0D8C#32
  | 45 => 0xBEBBDA97#32
  | 46 => 0x3F01B2CC#32
  | 47 => 0x3ECFD714#32
  | 48 => 0x3F3BCD19#32
  | 49 => 0x3F4ACCF8#32
  | 50 => 0x3F9FBD6D#32
  | 51 => 0xBE1F389F#32
  | 52 => 0xBE213F52#32
  | 53 => 0x401EEADB#32
  | 54 => 0x40042FFD#32
  | 55 => 0x3CC45BA9#32
  | 56 => 0x3FA11E4E#32
  | 57 => 0xBF8EA53F#32
  | 58 => 0x40C02DC2#32
  | 59 => 0x4055332B#32
  | 60 => 0x3FEF852D#32
  | 61 => 0xBF727E1C#32
  | 62 => 0x3FCA6BB5#32
  | 63 => 0x3E4550AD#32
  | 64 => 0x3F71A8A7#32
  | 65 => 0x40B75333#32
  | 66 => 0xBD0C3237#32
  | 67 => 0xBF802AAF#32
  | 68 => 0xBF84B74D#32
  | 69 => 0xBCB6DD98#32
  | 70 => 0xBEEF0746#32
  | 71 => 0x3FC11FCB#32
  | 72 => 0xBF936F58#32
  | 73 => 0x405791D7#32
  | 74 => 0x40073ACE#32
  | 75 => 0x3F1E4D48#32
  | 76 => 0x3FEF3151#32
  | 77 => 0xBF17EB1C#32
  | 78 => 0x400F90D7#32
  | 79 => 0x3F9E73A9#32
  | 80 => 0x3FB4FDB6#32
  | 81 => 0xBF41EAAD#32
  | 82 => 0x3F8AC4B2#32
  | 83 => 0x3EE70FFA#32
  | 84 => 0xBF118723#32
  | 85 => 0x3D128C01#32
  | 86 => 0x40137060#32
  | 87 => 0x3F404A65#32
  | 88 => 0x3EB19EBB#32
  | 89 => 0xBF2DAFF6#32
  | 90 => 0x3FD40C05#32
  | 91 => 0xBF9F80C7#32
  | 92 => 0xBF09E7E8#32
  | 93 => 0x3FD92750#32
  | 94 => 0xBF85EFF2#32
  | 95 => 0x3ED0D323#32
  | 96 => 0xBECC8750#32
  | 97 => 0x4041104A#32
  | 98 => 0x3F05015C#32
  | 99 => 0xBF84321E#32
  | 100 => 0xBF94857E#32
  | 101 => 0x3FD5DE8E#32
  | 102 => 0x3E9655E0#32
  | 103 => 0xBF11EC3E#32
  | 104 => 0x3F3BA5E4#32
  | 105 => 0x3F79F405#32
  | 106 => 0x3EBB7399#32
  | 107 => 0x3EBC38BC#32
  | 108 => 0xBCA313B2#32
  | 109 => 0xBF70674B#32
  | 110 => 0xBF972561#32
  | 111 => 0x40261A76#32
  | 112 => 0x3FBC87C0#32
  | 113 => 0xBF092A95#32
  | 114 => 0x3F89484C#32
  | 115 => 0xBF57A14E#32
  | 116 => 0x3FF760B2#32
  | 117 => 0xBF0CBD5B#32
  | 118 => 0x3FDA78FA#32
  | 119 => 0xBFA61503#32
  | 120 => 0x3E4B4E39#32
  | 121 => 0x3F489A30#32
  | 122 => 0x40A1C3CB#32
  | 123 => 0x4011E2B2#32
  | 124 => 0x3F5134EF#32
  | 125 => 0x3E9404A8#32
  | 126 => 0xBD97B13B#32
  | 127 => 0x3F9A55B8#32
  | _ => 0#32

noncomputable abbrev lit0t0_646 (i : Nat) : BitVec 32 := match i % 128 with
  | 0 => 0xBF4C0394#32
  | 1 => 0x3EFA1199#32
  | 2 => 0xBEB3D562#32
  | 3 => 0xBE8D4947#32
  | 4 => 0xBB74BCDF#32
  | 5 => 0xBF222870#32
  | 6 => 0x3F9D40EC#32
  | 7 => 0xBE87551C#32
  | 8 => 0x3F4A529C#32
  | 9 => 0x3F098A81#32
  | 10 => 0x3F80F3AB#32
  | 11 => 0x3F931F7B#32
  | 12 => 0x3EECFEE9#32
  | 13 => 0x3FDD6CE3#32
  | 14 => 0x40073933#32
  | 15 => 0xBE7A1793#32
  | 16 => 0xBE6F3B5F#32
  | 17 => 0x40195BFC#32
  | 18 => 0x3F305D4C#32
  | 19 => 0xBEA1E432#32
  | 20 => 0x3F0938EA#32
  | 21 => 0x4033ADBD#32
  | 22 => 0x3DE04E59#32
  | 23 => 0x3E963C14#32
  | 24 => 0xBF295984#32
  | 25 => 0x3F20D9EA#32
  | 26 => 0x3ED569B0#32
  | 27 => 0x3F796E70#32
  | 28 => 0x404E240C#32
  | 29 => 0x3ED00EEC#32
  | 30 => 0x3FC36836#32
  | 31 => 0xBF002DC4#32
  | 32 => 0xBDC26429#32
  | 33 => 0x4012439C#32
  | 34 => 0xBAB77F1A#32
  | 35 => 0x3E974F3B#32
  | 36 => 0xBC93B87C#32
  | 37 => 0x3F7B5BA9#32
  | 38 => 0x3EF2A29C#32
  | 39 => 0x3D832181#32
  | 40 => 0x3EC6C9E5#32
  | 41 => 0x3F4C0E2C#32
  | 42 => 0x406B1176#32
  | 43 => 0x4069A231#32
  | 44 => 0x402B76B5#32
  | 45 => 0x3FDA27A6#32
  | 46 => 0x3F61A139#32
  | 47 => 0x3D89A6C8#32
  | 48 => 0x3F9FA4E7#32
  | 49 => 0xBFBE78EE#32
  | 50 => 0x4038AC20#32
  | 51 => 0x3F6A0211#32
  | 52 => 0x4069BE3A#32
  | 53 => 0x3EA73A19#32
  | 54 => 0x404A2C10#32
  | 55 => 0xBF294F95#32
  | 56 => 0x3E907E77#32
  | 57 => 0x40124C44#32
  | 58 => 0x3F30881B#32
  | 59 => 0x3F56CF14#32
  | 60 => 0xBE919ED2#32
  | 61 => 0xBDA0251D#32
  | 62 => 0xBF25167B#32
  | 63 => 0x3D8AAAA3#32
  | 64 => 0x401CE165#32
  | 65 => 0xBF81C932#32
  | 66 => 0x3F8A1E99#32
  | 67 => 0x4022250B#32
  | 68 => 0x3E39E53D#32
  | 69 => 0xBF160599#32
  | 70 => 0x3F9900EE#32
  | 71 => 0x3F566AF6#32
  | 72 => 0xBF70875A#32
  | 73 => 0x4069A092#32
  | 74 => 0x4012E9E4#32
  | 75 => 0x3EA7B8E2#32
  | 76 => 0x405C9E72#32
  | 77 => 0xBE509C31#32
  | 78 => 0xBDDA524E#32
  | 79 => 0x3F2F32B6#32
  | 80 => 0xBE14860D#32
  | 81 => 0xBEDD7427#32
  | 82 => 0x3F0EAC4D#32
  | 83 => 0x3D68586F#32
  | 84 => 0xBF2A7600#32
  | 85 => 0xBF8DCAFC#32
  | 86 => 0x3F3F6529#32
  | 87 => 0x3F698A6C#32
  | 88 => 0x3F8C7E55#32
  | 89 => 0x3F840DB3#32
  | 90 => 0x3F1C1610#32
  | 91 => 0xBECA258E#32
  | 92 => 0x3CB66164#32
  | 93 => 0x3D760AC4#32
  | 94 => 0xBF43C0D2#32
  | 95 => 0x3FA328B7#32
  | 96 => 0x3E3FF74E#32
  | 97 => 0x400CFC9D#32
  | 98 => 0x3F5A8904#32
  | 99 => 0x3F686CDB#32
  | 100 => 0x408890D9#32
  | 101 => 0x3FB62007#32
  | 102 => 0x3F003474#32
  | 103 => 0x3F83D334#32
  | 104 => 0xBF714160#32
  | 105 => 0x3EB23E0F#32
  | 106 => 0x40902C53#32
  | 107 => 0xBF065838#32
  | 108 => 0x3F94A8D7#32
  | 109 => 0xBEC4F293#32
  | 110 => 0xBEB51DFE#32
  | 111 => 0xBE2FC16D#32
  | 112 => 0x3F3042FA#32
  | 113 => 0x3ECA7008#32
  | 114 => 0x3E70A95F#32
  | 115 => 0x3FC26905#32
  | 116 => 0x3F299937#32
  | 117 => 0x3EE2B66A#32
  | 118 => 0x3F25527E#32
  | 119 => 0xBF8E860F#32
  | 120 => 0xBE89F374#32
  | 121 => 0x3FD722B4#32
  | 122 => 0x3F7EE7B2#32
  | 123 => 0xBF8D0F92#32
  | 124 => 0xBE9C1DFB#32
  | 125 => 0x3D5FD830#32
  | 126 => 0x3E880B25#32
  | 127 => 0xBF6B02A2#32
  | _ => 0#32

noncomputable abbrev lit0t0_647 (i : Nat) : BitVec 32 := match i % 128 with
  | 0 => 0x3F61A312#32
  | 1 => 0x3F00D496#32
  | 2 => 0xBD7F49E3#32
  | 3 => 0x40AB4F23#32
  | 4 => 0xBFBBCEFB#32
  | 5 => 0x400A5B02#32
  | 6 => 0x3F816A10#32
  | 7 => 0x402D02C8#32
  | 8 => 0x3F9836AF#32
  | 9 => 0x402811B1#32
  | 10 => 0xBF88778A#32
  | 11 => 0x3F5D94E0#32
  | 12 => 0x3F279603#32
  | 13 => 0x3FDD5A0E#32
  | 14 => 0x3F2A683C#32
  | 15 => 0xBF8F837C#32
  | 16 => 0x3FE8726F#32
  | 17 => 0xBF191AB2#32
  | 18 => 0x3F156CF1#32
  | 19 => 0x3F21C86C#32
  | 20 => 0xBABD4500#32
  | 21 => 0xBDB30028#32
  | 22 => 0xBF1DD29C#32
  | 23 => 0x3F95974B#32
  | 24 => 0x3F760CCE#32
  | 25 => 0x404B8D18#32
  | 26 => 0x3FB8CFE1#32
  | 27 => 0x3B8441BC#32
  | 28 => 0x40095E1C#32
  | 29 => 0x3DF2D911#32
  | 30 => 0xBEE125E7#32
  | 31 => 0xBF0EDB72#32
  | 32 => 0xBEA31712#32
  | 33 => 0x401E12BA#32
  | 34 => 0x4013E854#32
  | 35 => 0x3F383418#32
  | 36 => 0x3F398957#32
  | 37 => 0xBC3819B7#32
  | 38 => 0xBF7CE406#32
  | 39 => 0x3F8D4FEE#32
  | 40 => 0x3FD2FEED#32
  | 41 => 0xBED7DA2A#32
  | 42 => 0x3EA556C5#32
  | 43 => 0x3EE984E8#32
  | 44 => 0x3ECA94C0#32
  | 45 => 0xBF8AFFA2#32
  | 46 => 0xBF1E842A#32
  | 47 => 0xBF89E942#32
  | 48 => 0x3F127B00#32
  | 49 => 0x40164175#32
  | 50 => 0xBF31DB84#32
  | 51 => 0x3F92D1AC#32
  | 52 => 0x40085E22#32
  | 53 => 0x3EC0180D#32
  | 54 => 0x3F9D30B9#32
  | 55 => 0xBEC63E53#32
  | 56 => 0xBEBBEA24#32
  | 57 => 0x3F448A27#32
  | 58 => 0x3F179119#32
  | 59 => 0xBEF81EA1#32
  | 60 => 0xBF892462#32
  | 61 => 0x3F0EB962#32
  | 62 => 0x3FA1A423#32
  | 63 => 0xBED72CF2#32
  | 64 => 0xBF9CCD17#32
  | 65 => 0xBF61C0F3#32
  | 66 => 0xBE5D7604#32
  | 67 => 0x3F8701DD#32
  | 68 => 0xBF630E7D#32
  | 69 => 0x3D52DC47#32
  | 70 => 0xBE2FBD08#32
  | 71 => 0x3FDCCE6C#32
  | 72 => 0x3EE712D0#32
  | 73 => 0x3F3B933A#32
  | 74 => 0xBF94F64C#32
  | 75 => 0xBE9F827C#32
  | 76 => 0x3FBAC22C#32
  | 77 => 0x3E62375F#32
  | 78 => 0xBF8208AA#32
  | 79 => 0x3FC27D5D#32
  | 80 => 0x40777D3F#32
  | 81 => 0x4005FDD7#32
  | 82 => 0xBF05E410#32
  | 83 => 0xBD8D5743#32
  | 84 => 0x405101A7#32
  | 85 => 0x3D9A754B#32
  | 86 => 0xBF011C3F#32
  | 87 => 0x3E68737E#32
  | 88 => 0x3FE3FCFA#32
  | 89 => 0x3F7DFDB6#32
  | 90 => 0xBF906678#32
  | 91 => 0x3EF06FDA#32
  | 92 => 0x3D0218BB#32
  | 93 => 0xBFBAE5CA#32
  | 94 => 0x3F180EBC#32
  | 95 => 0xBF7FCA69#32
  | 96 => 0x3FD42B47#32
  | 97 => 0x3E5EFE46#32
  | 98 => 0x3E149D66#32
  | 99 => 0xBF196944#32
  | 100 => 0x3EB1C86A#32
  | 101 => 0xBE4F9323#32
  | 102 => 0x3F91DA50#32
  | 103 => 0xBFAF5272#32
  | 104 => 0x3F26B0D7#32
  | 105 => 0x3FD3E7A2#32
  | 106 => 0x3E770751#32
  | 107 => 0xBFB08C25#32
  | 108 => 0x3F9B307B#32
  | 109 => 0xBF0B49CE#32
  | 110 => 0x3D01926A#32
  | 111 => 0x3F6C9154#32
  | 112 => 0x3E03E548#32
  | 113 => 0xBE3E4620#32
  | 114 => 0x3F988956#32
  | 115 => 0xBEE42904#32
  | 116 => 0x3F9B5D0A#32
  | 117 => 0xBD42F436#32
  | 118 => 0x400B1D2B#32
  | 119 => 0xBDD8DDC2#32
  | 120 => 0xBE9362AE#32
  | 121 => 0x3C3DF7DA#32
  | 122 => 0xBF0F128E#32
  | 123 => 0xBE7E22BF#32
  | 124 => 0xBE556C8D#32
  | 125 => 0xBF115106#32
  | 126 => 0x3FEBBFFD#32
  | 127 => 0x3F5DCB2F#32
  | _ => 0#32

noncomputable abbrev lit0t0_648 (i : Nat) : BitVec 32 := match i % 128 with
  | 0 => 0xBF392AAE#32
  | 1 => 0x3FC0E1EE#32
  | 2 => 0x3F4D0277#32
  | 3 => 0xBFC5A477#32
  | 4 => 0x4037A536#32
  | 5 => 0x3FBF884A#32
  | 6 => 0x3FACEDA1#32
  | 7 => 0x3DB4331A#32
  | 8 => 0xBFEBF71B#32
  | 9 => 0xBE0F73A2#32
  | 10 => 0xBD8A766B#32
  | 11 => 0x3D9A05B3#32
  | 12 => 0x3E66AD52#32
  | 13 => 0x3F9714B9#32
  | 14 => 0x3E9180B9#32
  | 15 => 0x3FE456A2#32
  | 16 => 0xBEBAB8C7#32
  | 17 => 0x3D776D71#32
  | 18 => 0x4068FE2C#32
  | 19 => 0x3FCFE376#32
  | 20 => 0xBEDE8EC9#32
  | 21 => 0xBD904DD8#32
  | 22 => 0x3FA74E13#32
  | 23 => 0x401EA87A#32
  | 24 => 0x4088A98C#32
  | 25 => 0x3DA933BF#32
  | 26 => 0x3E8DC2C1#32
  | 27 => 0x3EE55D62#32
  | 28 => 0x40086F9B#32
  | 29 => 0x3F55633A#32
  | 30 => 0x3EA678D5#32
  | 31 => 0x3F91A9A7#32
  | 32 => 0x3F817508#32
  | 33 => 0xBECEEED8#32
  | 34 => 0x3DC855F2#32
  | 35 => 0x404654F8#32
  | 36 => 0xBF3F35DF#32
  | 37 => 0x3F2B6049#32
  | 38 => 0x3D805377#32
  | 39 => 0xBC401895#32
  | 40 => 0xBE8F53DB#32
  | 41 => 0x3FC2E6C3#32
  | 42 => 0xBF93291F#32
  | 43 => 0x3FB2D780#32
  | 44 => 0x3EF0A4E7#32
  | 45 => 0x3FBD82A6#32
  | 46 => 0x3F8C75CC#32
  | 47 => 0x3FA4576B#32
  | 48 => 0xBF15A7B4#32
  | 49 => 0x3FA0B3EE#32
  | 50 => 0x3F673B65#32
  | 51 => 0xBF8174BC#32
  | 52 => 0xBF12F379#32
  | 53 => 0x40492773#32
  | 54 => 0xBE32B4DF#32
  | 55 => 0xBF290939#32
  | 56 => 0x3EDC3EAC#32
  | 57 => 0x3EE555D6#32
  | 58 => 0x3ECD550F#32
  | 59 => 0xBF07155C#32
  | 60 => 0xBE95FC72#32
  | 61 => 0xBF10D8A2#32
  | 62 => 0xBF60516D#32
  | 63 => 0xBF202359#32
  | 64 => 0x3EA9B12F#32
  | 65 => 0x40206E98#32
  | 66 => 0xBC21B783#32
  | 67 => 0xBF571212#32
  | 68 => 0x3EE6B8F9#32
  | 69 => 0xBF67D240#32
  | 70 => 0xBD89EA8E#32
  | 71 => 0x3E6E18BA#32
  | 72 => 0xBF6A33AD#32
  | 73 => 0xBEF6A88A#32
  | 74 => 0x3EA63018#32
  | 75 => 0x3F8E217E#32
  | 76 => 0x3FC95783#32
  | 77 => 0x3EBA1EF1#32
  | 78 => 0x3FD30848#32
  | 79 => 0xBDC06A6F#32
  | 80 => 0x3F5729CD#32
  | 81 => 0x3F14BAAC#32
  | 82 => 0xBF1C5CC2#32
  | 83 => 0x3FFFD5A6#32
  | 84 => 0x3F5A929F#32
  | 85 => 0x40292D99#32
  | 86 => 0x3E710398#32
  | 87 => 0xBFBB9339#32
  | 88 => 0xBF83114A#32
  | 89 => 0x3FA42C89#32
  | 90 => 0x401E6F1A#32
  | 91 => 0x3F94B16E#32
  | 92 => 0x3FD48B7B#32
  | 93 => 0x3FAC384E#32
  | 94 => 0x3F90D698#32
  | 95 => 0xBDD9EBF0#32
  | 96 => 0x3F3B2581#32
  | 97 => 0xBF050F79#32
  | 98 => 0xBF8B337C#32
  | 99 => 0xBEFC8C0A#32
  | 100 => 0x3F86BF94#32
  | 101 => 0x403E7266#32
  | 102 => 0x3F92D23F#32
  | 103 => 0xBF9D3F3C#32
  | 104 => 0x3F0CDE8D#32
  | 105 => 0x3FF64757#32
  | 106 => 0x3E9F961E#32
  | 107 => 0xBEFA4835#32
  | 108 => 0x3F4C2414#32
  | 109 => 0x40298E68#32
  | 110 => 0xBF6C9BCF#32
  | 111 => 0x3E2AC2AD#32
  | 112 => 0x3FD6861E#32
  | 113 => 0xBF085E88#32
  | 114 => 0x3E6E9B78#32
  | 115 => 0x3DE015CC#32
  | 116 => 0xBFC92494#32
  | 117 => 0x3F1616EB#32
  | 118 => 0x3FABB3E7#32
  | 119 => 0xBEB706A8#32
  | 120 => 0x3F324D33#32
  | 121 => 0x3F564B12#32
  | 122 => 0x3EA8B26C#32
  | 123 => 0x3F26A651#32
  | 124 => 0xBF1D9040#32
  | 125 => 0xBEA0B954#32
  | 126 => 0xBF6ED62E#32
  | 127 => 0xBDC8D21E#32
  | _ => 0#32

noncomputable abbrev lit0t0_649 (i : Nat) : BitVec 32 := match i % 128 with
  | 0 => 0x3DE57354#32
  | 1 => 0xBEC271AE#32
  | 2 => 0x3FD0305E#32
  | 3 => 0xBDDC39E4#32
  | 4 => 0xBF16FC12#32
  | 5 => 0x3E1CCA2E#32
  | 6 => 0x3F908AB2#32
  | 7 => 0x3E1C7A08#32
  | 8 => 0x3EB936C4#32
  | 9 => 0x3FA80F06#32
  | 10 => 0x3FBDDE24#32
  | 11 => 0x3F12ED54#32
  | 12 => 0x3FBE6ADB#32
  | 13 => 0xBF1DC1F0#32
  | 14 => 0x3FFD9A38#32
  | 15 => 0x3F996A3C#32
  | 16 => 0x3FE25A7A#32
  | 17 => 0x3EA95D9C#32
  | 18 => 0x403D43E2#32
  | 19 => 0x3FAAB350#32
  | 20 => 0x3F8B4A1E#32
  | 21 => 0x3F058C9C#32
  | 22 => 0xBF1E987D#32
  | 23 => 0xBF820D1F#32
  | 24 => 0xBDFAAAA5#32
  | 25 => 0x3E5FCB26#32
  | 26 => 0x404F5050#32
  | 27 => 0x3E8950C3#32
  | 28 => 0x3F6DEC1B#32
  | 29 => 0xBF42A37C#32
  | 30 => 0x3F2943E2#32
  | 31 => 0xBED5016C#32
  | 32 => 0x3DBEB635#32
  | 33 => 0x3FBEF98A#32
  | 34 => 0xBF18FEED#32
  | 35 => 0x3F70075A#32
  | 36 => 0x3FA371B0#32
  | 37 => 0xBFBDA9D5#32
  | 38 => 0xBF0E43BF#32
  | 39 => 0xBF04F363#32
  | 40 => 0xBE810552#32
  | 41 => 0xBC09046C#32
  | 42 => 0x3F6745DD#32
  | 43 => 0xBF844351#32
  | 44 => 0x3F57CA22#32
  | 45 => 0x3EA312C7#32
  | 46 => 0x3F71F629#32
  | 47 => 0x3E1F89A4#32
  | 48 => 0x3FFF8A43#32
  | 49 => 0x3EEDE7CE#32
  | 50 => 0x3EE434AE#32
  | 51 => 0xBE74A7D1#32
  | 52 => 0xBCC11B7B#32
  | 53 => 0x3FB80D96#32
  | 54 => 0x3F5AA84E#32
  | 55 => 0x3E494231#32
  | 56 => 0xBF9E1998#32
  | 57 => 0xBF9EE208#32
  | 58 => 0x3F7B5914#32
  | 59 => 0xBE67B57A#32
  | 60 => 0x3E893468#32
  | 61 => 0xBE4532BD#32
  | 62 => 0x3F8EA73A#32
  | 63 => 0x3EFBF46D#32
  | 64 => 0x3F7714E0#32
  | 65 => 0xBE75FCCB#32
  | 66 => 0xBF42B55A#32
  | 67 => 0x4053806A#32
  | 68 => 0xBF1D0B2C#32
  | 69 => 0x3F878DB5#32
  | 70 => 0xBF3E2024#32
  | 71 => 0x403C658A#32
  | 72 => 0x3F08751F#32
  | 73 => 0xBF6333F6#32
  | 74 => 0x3EA81130#32
  | 75 => 0x3E74E75A#32
  | 76 => 0xBDB8D205#32
  | 77 => 0xBF75FD8F#32
  | 78 => 0xBE518C19#32
  | 79 => 0xBF56E9DE#32
  | 80 => 0xBD098782#32
  | 81 => 0xBEDA0E9E#32
  | 82 => 0x3D072F1A#32
  | 83 => 0xBF40DD91#32
  | 84 => 0x3F7F839E#32
  | 85 => 0xBF776EE0#32
  | 86 => 0x3F453DD8#32
  | 87 => 0x40475654#32
  | 88 => 0x3EBFEE3F#32
  | 89 => 0xBF6A2423#32
  | 90 => 0x3FBD41EC#32
  | 91 => 0xBEC6844B#32
  | 92 => 0x3FC1BBA3#32
  | 93 => 0x3F26CBA6#32
  | 94 => 0x402159A9#32
  | 95 => 0x3F0E7DF8#32
  | 96 => 0x3F4187E3#32
  | 97 => 0xBE6F7AB7#32
  | 98 => 0xBF5937CF#32
  | 99 => 0x3F2CBFF4#32
  | 100 => 0x3EFA7F34#32
  | 101 => 0x3F86202F#32
  | 102 => 0xBF07D750#32
  | 103 => 0x3FC24B19#32
  | 104 => 0xBEA9D705#32
  | 105 => 0xBF34E8AC#32
  | 106 => 0x3BC7322F#32
  | 107 => 0xBD6050BB#32
  | 108 => 0x40025204#32
  | 109 => 0x3F88BF84#32
  | 110 => 0x401BC1B1#32
  | 111 => 0x3F22D2BF#32
  | 112 => 0x3FB3F08B#32
  | 113 => 0x3E96F0C2#32
  | 114 => 0xBE0EC346#32
  | 115 => 0x401FD9AC#32
  | 116 => 0x3FEF2AAD#32
  | 117 => 0x3F95060F#32
  | 118 => 0x3E8E593F#32
  | 119 => 0xBF27FF0A#32
  | 120 => 0x3FD6AEF1#32
  | 121 => 0x3F9C9451#32
  | 122 => 0x3EBA4293#32
  | 123 => 0x401ABBCF#32
  | 124 => 0x400003CB#32
  | 125 => 0x405CD225#32
  | 126 => 0x3EB8676B#32
  | 127 => 0xBF2C1156#32
  | _ => 0#32

noncomputable abbrev lit0t0_650 (i : Nat) : BitVec 32 := match i % 128 with
  | 0 => 0x3EBB889D#32
  | 1 => 0xBEA6149F#32
  | 2 => 0x3FD13C1C#32
  | 3 => 0x4070DEBE#32
  | 4 => 0xBF441AED#32
  | 5 => 0x3EA62ACC#32
  | 6 => 0xBD37AE5A#32
  | 7 => 0x401C7796#32
  | 8 => 0x3FD95897#32
  | 9 => 0x3F55520A#32
  | 10 => 0xBF4D8162#32
  | 11 => 0xBF8EA070#32
  | 12 => 0x3FDF118A#32
  | 13 => 0xBED2D89B#32
  | 14 => 0x3F9CA2C1#32
  | 15 => 0x3FEA3AC4#32
  | 16 => 0x3E7A76E2#32
  | 17 => 0x3EEEF061#32
  | 18 => 0x400C79F0#32
  | 19 => 0x3F377ADC#32
  | 20 => 0xBF01FA41#32
  | 21 => 0x40076346#32
  | 22 => 0xBFA515FA#32
  | 23 => 0xBE7E526F#32
  | 24 => 0x3CD7A4C4#32
  | 25 => 0x3DD5FAB5#32
  | 26 => 0xBF4A42A2#32
  | 27 => 0xBEB4D4CB#32
  | 28 => 0x3E6A9B4C#32
  | 29 => 0xBF1B81A0#32
  | 30 => 0x3FED746A#32
  | 31 => 0x3F5EFB6B#32
  | 32 => 0xBF1E80E7#32
  | 33 => 0xBF1418EC#32
  | 34 => 0x3FB2DF97#32
  | 35 => 0xBEB31FB4#32
  | 36 => 0xBF5B2ABA#32
  | 37 => 0x3F38ED0D#32
  | 38 => 0x3FCA033B#32
  | 39 => 0x3F9A6136#32
  | 40 => 0x3D073FC5#32
  | 41 => 0x3F8F5392#32
  | 42 => 0x3F4B652E#32
  | 43 => 0x40041616#32
  | 44 => 0x3FCA7397#32
  | 45 => 0x3DC2FC6A#32
  | 46 => 0x3EA13780#32
  | 47 => 0xBEF934D8#32
  | 48 => 0x3FAAA26F#32
  | 49 => 0x3F1B0BF0#32
  | 50 => 0x3F96C258#32
  | 51 => 0x3F55E1AE#32
  | 52 => 0xBF90FB44#32
  | 53 => 0x3EBA0BE3#32
  | 54 => 0x3F7F1790#32
  | 55 => 0x3ED7B3C8#32
  | 56 => 0x3E69B625#32
  | 57 => 0x3E25B86E#32
  | 58 => 0x3FE98E67#32
  | 59 => 0xBF669740#32
  | 60 => 0x3FBD0183#32
  | 61 => 0x3EECF7EC#32
  | 62 => 0xBF989A38#32
  | 63 => 0xBF29F719#32
  | 64 => 0x3FF4DA0A#32
  | 65 => 0x402D1D5E#32
  | 66 => 0x3E60C219#32
  | 67 => 0xBF7D009F#32
  | 68 => 0xBF7AC874#32
  | 69 => 0x3EFDD1B8#32
  | 70 => 0x3F6929B3#32
  | 71 => 0x3FDCAFC1#32
  | 72 => 0xBD59E26A#32
  | 73 => 0x3EB0487D#32
  | 74 => 0xBF928BCB#32
  | 75 => 0xBCF68610#32
  | 76 => 0xBF6A2AF9#32
  | 77 => 0x4056FB0D#32
  | 78 => 0x3EB775AB#32
  | 79 => 0x3F832822#32
  | 80 => 0x3F2541E0#32
  | 81 => 0x3FF547CC#32
  | 82 => 0x3F7E3FEC#32
  | 83 => 0xBF6D75FC#32
  | 84 => 0x3F562012#32
  | 85 => 0x3E7D44FF#32
  | 86 => 0xBF12D3FF#32
  | 87 => 0x3FC6F6DF#32
  | 88 => 0xBF28E006#32
  | 89 => 0xBF8C99C3#32
  | 90 => 0xBE454105#32
  | 91 => 0x3D29D010#32
  | 92 => 0xBE35425C#32
  | 93 => 0x40471691#32
  | 94 => 0xBF09E81D#32
  | 95 => 0x3EFFD3E0#32
  | 96 => 0x3EDCDBD1#32
  | 97 => 0x3E0EE1F0#32
  | 98 => 0xBFB9E531#32
  | 99 => 0xBF4AC839#32
  | 100 => 0xBE58F699#32
  | 101 => 0x3F59BDA2#32
  | 102 => 0xBF8E8182#32
  | 103 => 0x3CBBBC64#32
  | 104 => 0xBF86EA38#32
  | 105 => 0x40B23EAD#32
  | 106 => 0x401C3247#32
  | 107 => 0x3FFF703F#32
  | 108 => 0x3FCA75B1#32
  | 109 => 0xBF2E13B8#32
  | 110 => 0x3FB4C30F#32
  | 111 => 0x3FF677E9#32
  | 112 => 0x3F550978#32
  | 113 => 0xBEFFF2EE#32
  | 114 => 0x408D9AD6#32
  | 115 => 0x3FDD0B5C#32
  | 116 => 0xBE8D12FC#32
  | 117 => 0x3EB2851E#32
  | 118 => 0xBF538F34#32
  | 119 => 0xBDBE16A1#32
  | 120 => 0x3E98269F#32
  | 121 => 0xBE9C10B3#32
  | 122 => 0x3F1D5B56#32
  | 123 => 0x3F10492E#32
  | 124 => 0xBE006854#32
  | 125 => 0xBF12E25B#32
  | 126 => 0x3F5C01C0#32
  | 127 => 0x3F149B58#32
  | _ => 0#32

noncomputable abbrev lit0t0_651 (i : Nat) : BitVec 32 := match i % 128 with
  | 0 => 0x406E9A59#32
  | 1 => 0x400002B4#32
  | 2 => 0x4036631C#32
  | 3 => 0xBED13F8E#32
  | 4 => 0xBED50E6E#32
  | 5 => 0x402C7722#32
  | 6 => 0xBF63DE9E#32
  | 7 => 0x3FAFFA1A#32
  | 8 => 0x3F463012#32
  | 9 => 0xBF854CDE#32
  | 10 => 0x4016310D#32
  | 11 => 0xBF4233CC#32
  | 12 => 0x3FC60C4A#32
  | 13 => 0x3F5E1863#32
  | 14 => 0x3F8BF932#32
  | 15 => 0xBB906F64#32
  | 16 => 0xBF6489BC#32
  | 17 => 0x403ABABD#32
  | 18 => 0x3FF8CA92#32
  | 19 => 0x400FAC54#32
  | 20 => 0x3F0BD6A8#32
  | 21 => 0x3E71BEB7#32
  | 22 => 0x3E018D50#32
  | 23 => 0x402F8B0D#32
  | 24 => 0x3F7098F6#32
  | 25 => 0xBE6DE552#32
  | 26 => 0x3F1F17B8#32
  | 27 => 0x3F4181C4#32
  | 28 => 0x3F690690#32
  | 29 => 0x3F162E30#32
  | 30 => 0xBE31BD48#32
  | 31 => 0x3F5EB68F#32
  | 32 => 0x399B05DE#32
  | 33 => 0x4007264E#32
  | 34 => 0x40247C40#32
  | 35 => 0xBF6B1881#32
  | 36 => 0xBF3EDF5D#32
  | 37 => 0x3DA91A28#32
  | 38 => 0x3F9D72B7#32
  | 39 => 0x3D723B97#32
  | 40 => 0xBE22A1C7#32
  | 41 => 0x3ED1AD44#32
  | 42 => 0x3F005D45#32
  | 43 => 0x3D26A294#32
  | 44 => 0x3ED19623#32
  | 45 => 0x3FAB49EF#32
  | 46 => 0xBEFAA646#32
  | 47 => 0x3E65261A#32
  | 48 => 0xBF9B7AF4#32
  | 49 => 0xBF36C911#32
  | 50 => 0x3F813321#32
  | 51 => 0xBEDF7BE8#32
  | 52 => 0xBF188278#32
  | 53 => 0x3EF649A2#32
  | 54 => 0x3F471A24#32
  | 55 => 0x3F50A362#32
  | 56 => 0xBE5CD06E#32
  | 57 => 0x3EC869BA#32
  | 58 => 0x3F8BB9D8#32
  | 59 => 0xBE4F3102#32
  | 60 => 0x3F815DFC#32
  | 61 => 0xBED0534A#32
  | 62 => 0xBEFA1A69#32
  | 63 => 0x3F832F51#32
  | 64 => 0x3FE37AB8#32
  | 65 => 0x3FD9ED73#32
  | 66 => 0xBF9CE119#32
  | 67 => 0x3D7631ED#32
  | 68 => 0x3F3F67F7#32
  | 69 => 0x3F101957#32
  | 70 => 0xBF0F5096#32
  | 71 => 0xBE058F1F#32
  | 72 => 0x3DBE91AE#32
  | 73 => 0x3F0987E4#32
  | 74 => 0xBF176AA0#32
  | 75 => 0xBE0AEE67#32
  | 76 => 0xBF4A58CC#32
  | 77 => 0x3FFDC24E#32
  | 78 => 0x401A5884#32
  | 79 => 0xBF11CBD4#32
  | 80 => 0x40306CC3#32
  | 81 => 0xBF10ECF3#32
  | 82 => 0xBFD5A7A2#32
  | 83 => 0xBE70744F#32
  | 84 => 0xBE040FB8#32
  | 85 => 0xBE941BCD#32
  | 86 => 0x3EDC2353#32
  | 87 => 0x3F05566D#32
  | 88 => 0xBF7AC685#32
  | 89 => 0x3F914C71#32
  | 90 => 0x405186CF#32
  | 91 => 0xBF7EAA87#32
  | 92 => 0x3F4D9C00#32
  | 93 => 0xBF29451D#32
  | 94 => 0xBEB7FADF#32
  | 95 => 0xBCEEDD45#32
  | 96 => 0x3F2C3007#32
  | 97 => 0x3EDDC7E4#32
  | 98 => 0xBFD875CA#32
  | 99 => 0x3F429E29#32
  | 100 => 0xBF68148A#32
  | 101 => 0x3EEB1D9E#32
  | 102 => 0x3EC32118#32
  | 103 => 0x3F6CBDFC#32
  | 104 => 0x3F58D1FD#32
  | 105 => 0xBF89032A#32
  | 106 => 0xBE514D08#32
  | 107 => 0x3EB220DE#32
  | 108 => 0xBF18E797#32
  | 109 => 0x3F896CC9#32
  | 110 => 0xBF18674F#32
  | 111 => 0x3E40CFD5#32
  | 112 => 0x3F997181#32
  | 113 => 0x3D937396#32
  | 114 => 0x3F685F1F#32
  | 115 => 0xBF825A78#32
  | 116 => 0x3F3FBE50#32
  | 117 => 0x3FE05922#32
  | 118 => 0xBF619FE7#32
  | 119 => 0xBF94A6BE#32
  | 120 => 0x3FD2ED2F#32
  | 121 => 0x3F7605EA#32
  | 122 => 0x3DA9DCAB#32
  | 123 => 0xBEC9C174#32
  | 124 => 0x3F9665E4#32
  | 125 => 0xBDC62BA8#32
  | 126 => 0x3F0DF936#32
  | 127 => 0x3FBA3823#32
  | _ => 0#32

noncomputable abbrev lit0t0_652 (i : Nat) : BitVec 32 := match i % 128 with
  | 0 => 0x3FBC151C#32
  | 1 => 0x3FBE9D20#32
  | 2 => 0x40072255#32
  | 3 => 0x3D0887DA#32
  | 4 => 0xBE80DCBD#32
  | 5 => 0xBF12F26F#32
  | 6 => 0xBE934A9F#32
  | 7 => 0x40951071#32
  | 8 => 0x3EFDBE54#32
  | 9 => 0x4007A068#32
  | 10 => 0xBF539A28#32
  | 11 => 0xBF91278F#32
  | 12 => 0x3E4292DB#32
  | 13 => 0x3C51D608#32
  | 14 => 0xBF931ED5#32
  | 15 => 0xBFCADFC2#32
  | 16 => 0xBF1E0C1E#32
  | 17 => 0xBF03C8C6#32
  | 18 => 0xBE4843BA#32
  | 19 => 0x3F13E1D6#32
  | 20 => 0xBEF47B75#32
  | 21 => 0x3FC18E3C#32
  | 22 => 0x3FC85114#32
  | 23 => 0xBFF09303#32
  | 24 => 0x3FA2D6CE#32
  | 25 => 0x3FA6D9F5#32
  | 26 => 0xBEDBF264#32
  | 27 => 0x3C3CB9B1#32
  | 28 => 0xBDC5070C#32
  | 29 => 0xBE5C7398#32
  | 30 => 0x3F069DE8#32
  | 31 => 0xBDBBB890#32
  | 32 => 0xBFDC27C4#32
  | 33 => 0x3EB1F62E#32
  | 34 => 0x3F9B7E80#32
  | 35 => 0xBD46186E#32
  | 36 => 0xBF363058#32
  | 37 => 0xBFC690F8#32
  | 38 => 0x3FA8EC2B#32
  | 39 => 0x409C7DD6#32
  | 40 => 0x3F3EF228#32
  | 41 => 0x403D0424#32
  | 42 => 0xBDCD65B7#32
  | 43 => 0x403003C8#32
  | 44 => 0x401C12D3#32
  | 45 => 0xBF8F3250#32
  | 46 => 0x3FFEADD1#32
  | 47 => 0xBF0529B7#32
  | 48 => 0x3EE238A8#32
  | 49 => 0x3EEDD7F4#32
  | 50 => 0xBD082491#32
  | 51 => 0xBF255B13#32
  | 52 => 0x3F997E95#32
  | 53 => 0x3E8066CD#32
  | 54 => 0x3FFD6326#32
  | 55 => 0x3D820355#32
  | 56 => 0x3F33DAD5#32
  | 57 => 0xBF8DE69C#32
  | 58 => 0x3ED2D1E2#32
  | 59 => 0xBEEFD3D5#32
  | 60 => 0x3EF48B84#32
  | 61 => 0xBEB13AC0#32
  | 62 => 0x3C64F628#32
  | 63 => 0x3F22C827#32
  | 64 => 0x3F9B3252#32
  | 65 => 0xBFA37C3B#32
  | 66 => 0x3FF4FC56#32
  | 67 => 0xBF277C0C#32
  | 68 => 0x3FBD2078#32
  | 69 => 0xBFB56440#32
  | 70 => 0xBF98AC1A#32
  | 71 => 0xBECFA4E7#32
  | 72 => 0x3F19046A#32
  | 73 => 0x3FD6DEFD#32
  | 74 => 0x402400E4#32
  | 75 => 0xBDE7B431#32
  | 76 => 0x3EB09700#32
  | 77 => 0x4038F255#32
  | 78 => 0x3FF38DD7#32
  | 79 => 0x3FDB8943#32
  | 80 => 0x4013E727#32
  | 81 => 0xBF0AE036#32
  | 82 => 0x3F008BDD#32
  | 83 => 0x3EB815F9#32
  | 84 => 0x40C5A554#32
  | 85 => 0xBF69EFEB#32
  | 86 => 0x3E924D30#32
  | 87 => 0x3F00FB79#32
  | 88 => 0xBE8FC9EA#32
  | 89 => 0xBF2D47CE#32
  | 90 => 0xBFA74487#32
  | 91 => 0x3E52A3A8#32
  | 92 => 0x3FDF2957#32
  | 93 => 0xBF2050A4#32
  | 94 => 0xBF2C6C63#32
  | 95 => 0xBED5E438#32
  | 96 => 0xBF4D816B#32
  | 97 => 0xBF192F6E#32
  | 98 => 0x3F05EFCB#32
  | 99 => 0x40232ACF#32
  | 100 => 0x3F2ABE64#32
  | 101 => 0xBDB9F32F#32
  | 102 => 0x3E77467D#32
  | 103 => 0xBF67FF4E#32
  | 104 => 0x40839D90#32
  | 105 => 0xBED6C6CE#32
  | 106 => 0xBF27904A#32
  | 107 => 0x3F14F788#32
  | 108 => 0x3F6743D6#32
  | 109 => 0x3F416BCA#32
  | 110 => 0x3F07CDEA#32
  | 111 => 0x3E4BDC62#32
  | 112 => 0x3F451E4A#32
  | 113 => 0x3F9AEADA#32
  | 114 => 0x3EBDDA27#32
  | 115 => 0x3E8D9101#32
  | 116 => 0xBEEAFA50#32
  | 117 => 0x3F0FF7FE#32
  | 118 => 0x3F14C09B#32
  | 119 => 0x3FF4DCCD#32
  | 120 => 0x3E91FD0B#32
  | 121 => 0x3FE1DCC2#32
  | 122 => 0x408DB634#32
  | 123 => 0x3FA07E6C#32
  | 124 => 0xBE8A32BF#32
  | 125 => 0xBEC45A79#32
  | 126 => 0x3FC7E055#32
  | 127 => 0x3F55E453#32
  | _ => 0#32

noncomputable abbrev lit0t0_653 (i : Nat) : BitVec 32 := match i % 128 with
  | 0 => 0x3FA38B88#32
  | 1 => 0x3F7CB134#32
  | 2 => 0x3EC930C2#32
  | 3 => 0xBF6679E0#32
  | 4 => 0xBE5C3914#32
  | 5 => 0x3E39F773#32
  | 6 => 0x3FA1EC65#32
  | 7 => 0x3FCCD1D6#32
  | 8 => 0xBF755E7A#32
  | 9 => 0x3E229958#32
  | 10 => 0xBF83E39C#32
  | 11 => 0x3F3BAEE2#32
  | 12 => 0xBF53CF12#32
  | 13 => 0x3DA55A67#32
  | 14 => 0x402DACA6#32
  | 15 => 0x3E32E874#32
  | 16 => 0x3F80B88D#32
  | 17 => 0x40047049#32
  | 18 => 0x40543066#32
  | 19 => 0x3FADD58F#32
  | 20 => 0xBF390F07#32
  | 21 => 0x3F9E3B30#32
  | 22 => 0x4033AC42#32
  | 23 => 0x404F7494#32
  | 24 => 0x3F749D0B#32
  | 25 => 0xBEC09929#32
  | 26 => 0xBEC62B67#32
  | 27 => 0x3FC8B182#32
  | 28 => 0x3F36EDB8#32
  | 29 => 0x3FA9AFD6#32
  | 30 => 0x400FF79A#32
  | 31 => 0xBEFECBDC#32
  | 32 => 0xBD3F8E5C#32
  | 33 => 0x3FA9B80B#32
  | 34 => 0xBDDE907D#32
  | 35 => 0xBEC4B7ED#32
  | 36 => 0xBE805B1D#32
  | 37 => 0x4084ECCE#32
  | 38 => 0x40313E58#32
  | 39 => 0x3EC7D506#32
  | 40 => 0xBFC77E18#32
  | 41 => 0x3F6F22B5#32
  | 42 => 0xBFA53150#32
  | 43 => 0xBEA56EA0#32
  | 44 => 0x3FCD8D9D#32
  | 45 => 0x3FBE7BF6#32
  | 46 => 0x3E22FB82#32
  | 47 => 0xBF889359#32
  | 48 => 0x4035FE09#32
  | 49 => 0x3FC6B39C#32
  | 50 => 0xBF25C0FD#32
  | 51 => 0xBE44B8EB#32
  | 52 => 0xBF71F507#32
  | 53 => 0x3E39E6F7#32
  | 54 => 0x3E94E7DF#32
  | 55 => 0xBEBBB19E#32
  | 56 => 0xBF5BE312#32
  | 57 => 0xBE6D3210#32
  | 58 => 0x40B94F10#32
  | 59 => 0xBF65BC35#32
  | 60 => 0x4018A0DE#32
  | 61 => 0x3E9D2961#32
  | 62 => 0x3F9C9308#32
  | 63 => 0xBEE78512#32
  | 64 => 0x40110819#32
  | 65 => 0x4014A40B#32
  | 66 => 0xBE1350CD#32
  | 67 => 0xBF2CA756#32
  | 68 => 0xBD1A1040#32
  | 69 => 0xBEE1C356#32
  | 70 => 0x3FE9ED3C#32
  | 71 => 0x3EFF1818#32
  | 72 => 0xBF0CF15A#32
  | 73 => 0x3F1E9CAE#32
  | 74 => 0xBF65765D#32
  | 75 => 0x3F666C3D#32
  | 76 => 0x3ED05C25#32
  | 77 => 0x3E2875B6#32
  | 78 => 0x3E9B4E5E#32
  | 79 => 0xBF145C2A#32
  | 80 => 0x3FB9A722#32
  | 81 => 0x3E2A9082#32
  | 82 => 0xBF80A87D#32
  | 83 => 0xBFAF4C01#32
  | 84 => 0xBFE6E1FB#32
  | 85 => 0x3F4965DB#32
  | 86 => 0x3E82F474#32
  | 87 => 0xBE1D4332#32
  | 88 => 0x3F70B059#32
  | 89 => 0x400860E9#32
  | 90 => 0xBEE71298#32
  | 91 => 0x3F667B31#32
  | 92 => 0xBEFD906C#32
  | 93 => 0xBE2AD472#32
  | 94 => 0x3F594A29#32
  | 95 => 0xBE4F2E7B#32
  | 96 => 0x3F04C0EC#32
  | 97 => 0x3FD6630C#32
  | 98 => 0x3F552F34#32
  | 99 => 0x3F4FB22F#32
  | 100 => 0xBF5AE760#32
  | 101 => 0x3EEF18B0#32
  | 102 => 0xBEF31F40#32
  | 103 => 0xBE7A4318#32
  | 104 => 0x3FA89705#32
  | 105 => 0x3FBDD315#32
  | 106 => 0x3F9D2B38#32
  | 107 => 0x3EA2D2FB#32
  | 108 => 0x3F289661#32
  | 109 => 0xBEBFE01E#32
  | 110 => 0x3F7E4216#32
  | 111 => 0x3F2709E9#32
  | 112 => 0x3F0B1CD4#32
  | 113 => 0x3E316A90#32
  | 114 => 0x4029FEA1#32
  | 115 => 0xBF5F3A12#32
  | 116 => 0x402E65F2#32
  | 117 => 0x3F8EA477#32
  | 118 => 0x3EE840DA#32
  | 119 => 0xBF8F1FEE#32
  | 120 => 0xBF54FF89#32
  | 121 => 0xBEBBAA9A#32
  | 122 => 0xBF3CEDFE#32
  | 123 => 0xBE82C523#32
  | 124 => 0x3E32506F#32
  | 125 => 0x3FD0F067#32
  | 126 => 0x3FC837B0#32
  | 127 => 0xBF6CC028#32
  | _ => 0#32

noncomputable abbrev lit0t0_654 (i : Nat) : BitVec 32 := match i % 128 with
  | 0 => 0xBE9F0A80#32
  | 1 => 0x40559C22#32
  | 2 => 0xBE641BC6#32
  | 3 => 0x40BD7CA3#32
  | 4 => 0xBF7C0270#32
  | 5 => 0x3F4FE88C#32
  | 6 => 0x3E3C96D1#32
  | 7 => 0x3F0FFE82#32
  | 8 => 0xBE2C0EB4#32
  | 9 => 0x3FCED824#32
  | 10 => 0x3F1FAEAA#32
  | 11 => 0xBEF1F0B5#32
  | 12 => 0x3EE80BF0#32
  | 13 => 0xBF2E10B4#32
  | 14 => 0xBE0B55EF#32
  | 15 => 0x400B59BA#32
  | 16 => 0x3CD1B0B5#32
  | 17 => 0xBEA97B54#32
  | 18 => 0x3F995F30#32
  | 19 => 0x3FDE1E72#32
  | 20 => 0xBF3A3C3B#32
  | 21 => 0x3F96FBE7#32
  | 22 => 0xBEA41091#32
  | 23 => 0x3EE03869#32
  | 24 => 0xBEAEEC6E#32
  | 25 => 0x3FDE17E6#32
  | 26 => 0x402000C3#32
  | 27 => 0x3FFC1D94#32
  | 28 => 0x3FBD3781#32
  | 29 => 0x3FE836B9#32
  | 30 => 0x3EE366E2#32
  | 31 => 0x3E625E32#32
  | 32 => 0x3F80E9B2#32
  | 33 => 0x3E0B5FD8#32
  | 34 => 0x3E85FC6C#32
  | 35 => 0xBF8BC58A#32
  | 36 => 0x3CC9233D#32
  | 37 => 0x40269BF6#32
  | 38 => 0x3FA078C7#32
  | 39 => 0xBED5C907#32
  | 40 => 0x3E426802#32
  | 41 => 0x3FDE2CAA#32
  | 42 => 0x3EAD5906#32
  | 43 => 0x3EB85C57#32
  | 44 => 0x3E2C8405#32
  | 45 => 0x3F4C1327#32
  | 46 => 0x404B91E5#32
  | 47 => 0xBE9BC8EC#32
  | 48 => 0xBD480D7B#32
  | 49 => 0x3E8A9D80#32
  | 50 => 0x3E582D11#32
  | 51 => 0xBED76968#32
  | 52 => 0xBEC972C7#32
  | 53 => 0x3F9B99DB#32
  | 54 => 0x3EF659AE#32
  | 55 => 0x40210F14#32
  | 56 => 0xBF23F06C#32
  | 57 => 0x3F7CA3C2#32
  | 58 => 0xBF2A4B34#32
  | 59 => 0xBFC3DDFD#32
  | 60 => 0x3E02187F#32
  | 61 => 0xBBCD9392#32
  | 62 => 0x3FF67303#32
  | 63 => 0x3F3847CF#32
  | 64 => 0x3FD3AE90#32
  | 65 => 0xBC5B0AFB#32
  | 66 => 0x3E4AFE45#32
  | 67 => 0x3E1277BD#32
  | 68 => 0xBC90F82D#32
  | 69 => 0x3F825F4F#32
  | 70 => 0x3C3B59AE#32
  | 71 => 0x3F8F9063#32
  | 72 => 0x3E583ACA#32
  | 73 => 0x3FD75896#32
  | 74 => 0x3EBD7BE8#32
  | 75 => 0xBE025A6F#32
  | 76 => 0xBF9A9A66#32
  | 77 => 0xBE2C431C#32
  | 78 => 0xBE9F8BE6#32
  | 79 => 0x3FEB2F24#32
  | 80 => 0x3EAD3F0D#32
  | 81 => 0xBF8355F5#32
  | 82 => 0x3F951B7D#32
  | 83 => 0xBF14591D#32
  | 84 => 0x3F7220D6#32
  | 85 => 0x404C1757#32
  | 86 => 0x3F9E9AD1#32
  | 87 => 0x3FC0D5AD#32
  | 88 => 0x3F211A46#32
  | 89 => 0x3F65584F#32
  | 90 => 0xBE243C9F#32
  | 91 => 0x40697C0A#32
  | 92 => 0xBD9573CA#32
  | 93 => 0x3EA7466F#32
  | 94 => 0x3F8A9FB5#32
  | 95 => 0x3ED4C781#32
  | 96 => 0x3FC3C570#32
  | 97 => 0xBF6EEC0D#32
  | 98 => 0xBEB9EDE0#32
  | 99 => 0x3F8E894D#32
  | 100 => 0x3FF97EFC#32
  | 101 => 0xBF23895F#32
  | 102 => 0x3FCC981F#32
  | 103 => 0xBEE89884#32
  | 104 => 0x3CA278BE#32
  | 105 => 0x3FFAAD36#32
  | 106 => 0x3DC3F354#32
  | 107 => 0xBEE50596#32
  | 108 => 0x3E4431E3#32
  | 109 => 0x3FBDE7C7#32
  | 110 => 0x40534EC2#32
  | 111 => 0x3F6F0C98#32
  | 112 => 0x3FB06076#32
  | 113 => 0x3F9F180F#32
  | 114 => 0x3F617B3E#32
  | 115 => 0xBE58D8FD#32
  | 116 => 0xBE5FA8A5#32
  | 117 => 0x3F49C2C2#32
  | 118 => 0x3C2EA93D#32
  | 119 => 0xBB91DBC5#32
  | 120 => 0x3E8202DA#32
  | 121 => 0x3F8AE59E#32
  | 122 => 0xBEC83F71#32
  | 123 => 0xBF3E8D5E#32
  | 124 => 0x3FA5EB7A#32
  | 125 => 0x3F77EE0A#32
  | 126 => 0x3F97C14E#32
  | 127 => 0x3E9701DC#32
  | _ => 0#32

noncomputable abbrev lit0t0_655 (i : Nat) : BitVec 32 := match i % 128 with
  | 0 => 0x400E2E7B#32
  | 1 => 0xBECDE4BB#32
  | 2 => 0xBF127975#32
  | 3 => 0x3FDC3857#32
  | 4 => 0x3F8DCD71#32
  | 5 => 0x3E989BE0#32
  | 6 => 0x3F3889A1#32
  | 7 => 0xBF7454C6#32
  | 8 => 0xBF2FCD0B#32
  | 9 => 0xBE8F6415#32
  | 10 => 0xBE996937#32
  | 11 => 0xBE05E975#32
  | 12 => 0xBF713D80#32
  | 13 => 0x3EE37B78#32
  | 14 => 0xBE07DFC4#32
  | 15 => 0xBCEC253F#32
  | 16 => 0xBF0BD992#32
  | 17 => 0xBDA2E42C#32
  | 18 => 0x3EF6EE70#32
  | 19 => 0x3ED6F86F#32
  | 20 => 0x3F05E3DF#32
  | 21 => 0xBDB8CF73#32
  | 22 => 0x3EA68EBE#32
  | 23 => 0xBE8F760D#32
  | 24 => 0x3FCD0F3C#32
  | 25 => 0x3F7600AC#32
  | 26 => 0x3E33533B#32
  | 27 => 0x4043579A#32
  | 28 => 0xBE9C0DD4#32
  | 29 => 0x3D40BC16#32
  | 30 => 0xBF0B262D#32
  | 31 => 0x402E05F0#32
  | 32 => 0xBE584492#32
  | 33 => 0x3E2C9001#32
  | 34 => 0xBF6E2C78#32
  | 35 => 0xBE35D22E#32
  | 36 => 0x4021A083#32
  | 37 => 0xBF62C079#32
  | 38 => 0xBD386E85#32
  | 39 => 0x3FFC7D9A#32
  | 40 => 0x3FF53FFC#32
  | 41 => 0x401C2D1E#32
  | 42 => 0x3DEE2591#32
  | 43 => 0x40289F74#32
  | 44 => 0xBF8E29F7#32
  | 45 => 0xBF66E61F#32
  | 46 => 0x3FB88723#32
  | 47 => 0xBE6FFE24#32
  | 48 => 0x3F3B2CBA#32
  | 49 => 0x4095D105#32
  | 50 => 0x3ECAF981#32
  | 51 => 0x3E0E4A03#32
  | 52 => 0x3CB1E3E5#32
  | 53 => 0xBF1AF515#32
  | 54 => 0x40126940#32
  | 55 => 0xBEB16A69#32
  | 56 => 0xBDFB120C#32
  | 57 => 0x3F1386FF#32
  | 58 => 0x3F03D220#32
  | 59 => 0xBEB70728#32
  | 60 => 0x40388131#32
  | 61 => 0x40846ADE#32
  | 62 => 0x40223250#32
  | 63 => 0x3E9D0343#32
  | 64 => 0x3E9D7F8D#32
  | 65 => 0xBEE5F806#32
  | 66 => 0x3F1F38A0#32
  | 67 => 0x3CF32885#32
  | 68 => 0x40355DDC#32
  | 69 => 0x3F64C52C#32
  | 70 => 0xBF3CCE1E#32
  | 71 => 0xBFB8CD3E#32
  | 72 => 0xBF1E95C3#32
  | 73 => 0x40A5A37A#32
  | 74 => 0x3EA77F1F#32
  | 75 => 0x3EC65087#32
  | 76 => 0x402AFABE#32
  | 77 => 0x3F20327D#32
  | 78 => 0x40203178#32
  | 79 => 0xBDFC8838#32
  | 80 => 0xBEE3563A#32
  | 81 => 0xBDC15077#32
  | 82 => 0x3EE5EAA0#32
  | 83 => 0xBEDA3F82#32
  | 84 => 0xBC80CDAA#32
  | 85 => 0x3F923AD3#32
  | 86 => 0x3F6A3DC3#32
  | 87 => 0x3F62760D#32
  | 88 => 0x402882C1#32
  | 89 => 0xBE8F8C4E#32
  | 90 => 0x3F079A94#32
  | 91 => 0x4019A8ED#32
  | 92 => 0x4001B7CF#32
  | 93 => 0x3EF761DA#32
  | 94 => 0xBEF92014#32
  | 95 => 0xBDA0D31E#32
  | 96 => 0xBE8DFA35#32
  | 97 => 0xBF31BEB4#32
  | 98 => 0x3DE3EC16#32
  | 99 => 0x3F9A88B6#32
  | 100 => 0xBF80B423#32
  | 101 => 0xBE86171D#32
  | 102 => 0x3C590556#32
  | 103 => 0x3FA6E82A#32
  | 104 => 0xBF890CE4#32
  | 105 => 0xBEECE135#32
  | 106 => 0xBF393955#32
  | 107 => 0xBE7920DD#32
  | 108 => 0x3F12E78E#32
  | 109 => 0xBFA20BE1#32
  | 110 => 0x3FBBC79B#32
  | 111 => 0xBF331C48#32
  | 112 => 0xBE9BC5D5#32
  | 113 => 0x3E44E8C8#32
  | 114 => 0x3EF76696#32
  | 115 => 0x3EB90957#32
  | 116 => 0x40188D12#32
  | 117 => 0x3EED9F3D#32
  | 118 => 0xBEE901CA#32
  | 119 => 0x3EFBD3A4#32
  | 120 => 0x3F4663DD#32
  | 121 => 0x3E9A42C3#32
  | 122 => 0x3EF28A1A#32
  | 123 => 0xBF25E507#32
  | 124 => 0x3FD08BAA#32
  | 125 => 0x401EAD3D#32
  | 126 => 0x3FD40A9B#32
  | 127 => 0x3EDBD2C7#32
  | _ => 0#32

noncomputable abbrev lit0t0_656 (i : Nat) : BitVec 32 := match i % 128 with
  | 0 => 0xBE78D936#32
  | 1 => 0xBEC505D9#32
  | 2 => 0xBF40291C#32
  | 3 => 0x401C8813#32
  | 4 => 0x401B7598#32
  | 5 => 0x3EC46D60#32
  | 6 => 0xBEA49C90#32
  | 7 => 0xBF5F695F#32
  | 8 => 0xBE283D80#32
  | 9 => 0x4064D669#32
  | 10 => 0x3FDB1F5F#32
  | 11 => 0xBEDF6E34#32
  | 12 => 0x401D8D73#32
  | 13 => 0x3D39FB6E#32
  | 14 => 0xBE938D4F#32
  | 15 => 0xBD349734#32
  | 16 => 0xBF40BBF1#32
  | 17 => 0x3E8A914A#32
  | 18 => 0x3E2F7202#32
  | 19 => 0x3FF83340#32
  | 20 => 0x3FADA37D#32
  | 21 => 0x3FAB6FD9#32
  | 22 => 0xBF96CE4B#32
  | 23 => 0x3C86F485#32
  | 24 => 0xBF845088#32
  | 25 => 0x3EDF4F96#32
  | 26 => 0xBF58F0BA#32
  | 27 => 0x3F1F5541#32
  | 28 => 0x3F1F02F0#32
  | 29 => 0xBF89ADAF#32
  | 30 => 0x3F18676F#32
  | 31 => 0x3F440443#32
  | 32 => 0x3FD28017#32
  | 33 => 0x3E969F12#32
  | 34 => 0xBF8A23DC#32
  | 35 => 0x3F90DDB4#32
  | 36 => 0x3F8EFA74#32
  | 37 => 0x3F9A6028#32
  | 38 => 0xBEBA2570#32
  | 39 => 0x408FDE68#32
  | 40 => 0x3EDC2EC8#32
  | 41 => 0x3F843E6B#32
  | 42 => 0x4012EC88#32
  | 43 => 0x401978A6#32
  | 44 => 0x3E06148D#32
  | 45 => 0x3F0BA7CC#32
  | 46 => 0xBEF6582D#32
  | 47 => 0x3C95FA32#32
  | 48 => 0xBF044C6C#32
  | 49 => 0x3FF8D917#32
  | 50 => 0x3E609AC0#32
  | 51 => 0x3FB7C078#32
  | 52 => 0x40A1E034#32
  | 53 => 0xBD11B273#32
  | 54 => 0x3FFB199C#32
  | 55 => 0x3E3FE757#32
  | 56 => 0x3F863062#32
  | 57 => 0x3E8EB4F5#32
  | 58 => 0x3F9C5F8E#32
  | 59 => 0x3F7745C1#32
  | 60 => 0x3EB0B373#32
  | 61 => 0x3F840A81#32
  | 62 => 0xBD7083DB#32
  | 63 => 0x3F0C8838#32
  | 64 => 0xBD5B538D#32
  | 65 => 0xBF3391AD#32
  | 66 => 0x3EF87F81#32
  | 67 => 0x3EA26670#32
  | 68 => 0xBEF2612E#32
  | 69 => 0x3EF80314#32
  | 70 => 0xBF22EC80#32
  | 71 => 0x401ECF8A#32
  | 72 => 0xBE3A0980#32
  | 73 => 0x3EA47426#32
  | 74 => 0x3F7AC4C7#32
  | 75 => 0x3E6F01D8#32
  | 76 => 0xBEA79830#32
  | 77 => 0x3E32D300#32
  | 78 => 0x3F967990#32
  | 79 => 0x3F87C96C#32
  | 80 => 0x3D646760#32
  | 81 => 0xBE963E5D#32
  | 82 => 0x3F89F052#32
  | 83 => 0xBED96663#32
  | 84 => 0xBF807698#32
  | 85 => 0xBF0C9FFB#32
  | 86 => 0x3FEAD33A#32
  | 87 => 0x3FDE770A#32
  | 88 => 0xBF8D0E42#32
  | 89 => 0xBF4D3DC4#32
  | 90 => 0x3FAE08CD#32
  | 91 => 0x3EBA329F#32
  | 92 => 0x3ED4EA89#32
  | 93 => 0x3F94E470#32
  | 94 => 0x3FA7C8C6#32
  | 95 => 0x3F6B70FA#32
  | 96 => 0x402797F4#32
  | 97 => 0xBF93BFAB#32
  | 98 => 0xBE840395#32
  | 99 => 0x3FB25F73#32
  | 100 => 0xBFAAEBBC#32
  | 101 => 0x401C6B70#32
  | 102 => 0x3EAE3BDA#32
  | 103 => 0x400B4B82#32
  | 104 => 0x3EE928BB#32
  | 105 => 0x3F071CAF#32
  | 106 => 0xBEEAE966#32
  | 107 => 0x3D86E982#32
  | 108 => 0x3DB34D90#32
  | 109 => 0x3EDA9449#32
  | 110 => 0x3FD286CA#32
  | 111 => 0x3F7039CF#32
  | 112 => 0x402980CD#32
  | 113 => 0x3F9479DE#32
  | 114 => 0xBE8DCBB0#32
  | 115 => 0x3F60DCD7#32
  | 116 => 0x3F2CAB95#32
  | 117 => 0x4057B7CB#32
  | 118 => 0xBF58C7B7#32
  | 119 => 0x3F41A9B0#32
  | 120 => 0x40273D09#32
  | 121 => 0x3F9F6318#32
  | 122 => 0x3FBB34BB#32
  | 123 => 0x4025FA00#32
  | 124 => 0xBF1C1626#32
  | 125 => 0x3FCAA742#32
  | 126 => 0x400441CD#32
  | 127 => 0xBE1CFB09#32
  | _ => 0#32

noncomputable abbrev lit0t0_657 (i : Nat) : BitVec 32 := match i % 128 with
  | 0 => 0x3F87B540#32
  | 1 => 0xBD8464A2#32
  | 2 => 0xBF352D30#32
  | 3 => 0x3F7EF185#32
  | 4 => 0xBF5EF961#32
  | 5 => 0xBEE4CAEE#32
  | 6 => 0x3F6E5753#32
  | 7 => 0xBEDBD9F4#32
  | 8 => 0xBFA114FD#32
  | 9 => 0x3F42952C#32
  | 10 => 0x40A9F430#32
  | 11 => 0x3FF46BF4#32
  | 12 => 0xBF9A784C#32
  | 13 => 0xBE246F5A#32
  | 14 => 0x3EC6D76B#32
  | 15 => 0xBF481913#32
  | 16 => 0x3F2A8E1C#32
  | 17 => 0xBFA66420#32
  | 18 => 0xBE5888B1#32
  | 19 => 0xBEAE5C30#32
  | 20 => 0xBF4AFDD0#32
  | 21 => 0xBC9D8DE3#32
  | 22 => 0x3FD569CA#32
  | 23 => 0x3FB37B35#32
  | 24 => 0xBC056F07#32
  | 25 => 0x3E509A13#32
  | 26 => 0x3F8E9F60#32
  | 27 => 0x3F945C18#32
  | 28 => 0xBEBD5D67#32
  | 29 => 0xBF8C57D5#32
  | 30 => 0xBE119778#32
  | 31 => 0x3E8309FD#32
  | 32 => 0x3DEDB2AF#32
  | 33 => 0x40156F95#32
  | 34 => 0x401464AA#32
  | 35 => 0x3EA88070#32
  | 36 => 0x3F34840A#32
  | 37 => 0xBF45107E#32
  | 38 => 0x3F1434CD#32
  | 39 => 0x3E0AC177#32
  | 40 => 0x4063D3DA#32
  | 41 => 0x3F230A37#32
  | 42 => 0x3F9B5095#32
  | 43 => 0x3F6CF74F#32
  | 44 => 0x40810A4A#32
  | 45 => 0x3FBD787F#32
  | 46 => 0xBF423AEB#32
  | 47 => 0x3DF67EE9#32
  | 48 => 0x3F86D551#32
  | 49 => 0xBE126FCF#32
  | 50 => 0x3F5C1BCA#32
  | 51 => 0xBFAB7122#32
  | 52 => 0x3DD4BF3E#32
  | 53 => 0x3DEC92BC#32
  | 54 => 0xBF05631A#32
  | 55 => 0xBEB2BE33#32
  | 56 => 0x4015BEA1#32
  | 57 => 0x3F985F1D#32
  | 58 => 0xBF196A46#32
  | 59 => 0x3F933A37#32
  | 60 => 0x40587BA7#32
  | 61 => 0x3F03E0D6#32
  | 62 => 0x40093EB9#32
  | 63 => 0x3F937196#32
  | 64 => 0x3F32D106#32
  | 65 => 0xBF216F82#32
  | 66 => 0x3DF32587#32
  | 67 => 0x3FB033F7#32
  | 68 => 0xBF43CC58#32
  | 69 => 0x3ECE6CFE#32
  | 70 => 0xBF7A45EE#32
  | 71 => 0xBF74FC3A#32
  | 72 => 0xBF2DC678#32
  | 73 => 0x3FC1F279#32
  | 74 => 0xBE3B484A#32
  | 75 => 0xBF24EFAE#32
  | 76 => 0x3F35608B#32
  | 77 => 0xBF937922#32
  | 78 => 0x3FA24B3C#32
  | 79 => 0xBF23D08E#32
  | 80 => 0x3FAA4BF3#32
  | 81 => 0xBF637624#32
  | 82 => 0x3FA9E8F4#32
  | 83 => 0x3E5600A1#32
  | 84 => 0x3F966295#32
  | 85 => 0xBE905EEF#32
  | 86 => 0x3EE71EC6#32
  | 87 => 0x3FB71D95#32
  | 88 => 0xBEA7536B#32
  | 89 => 0x40ADE981#32
  | 90 => 0x3ECE9649#32
  | 91 => 0xBE6C4B21#32
  | 92 => 0x3F79A7FE#32
  | 93 => 0x3FFE41EB#32
  | 94 => 0x4005CC60#32
  | 95 => 0x405BC597#32
  | 96 => 0xBF31A62D#32
  | 97 => 0x3F67EFEC#32
  | 98 => 0xBFABC82D#32
  | 99 => 0x3F021230#32
  | 100 => 0xBF828791#32
  | 101 => 0x3F8D6882#32
  | 102 => 0x401A31D2#32
  | 103 => 0x3F1FC233#32
  | 104 => 0xBEEB31A4#32
  | 105 => 0x3EE6E4B3#32
  | 106 => 0xBED5AE04#32
  | 107 => 0x3FD51D08#32
  | 108 => 0x3F0B40B4#32
  | 109 => 0x3E86F912#32
  | 110 => 0x3F98FB1C#32
  | 111 => 0x3F9DCC83#32
  | 112 => 0x3FACE58A#32
  | 113 => 0x3E8A2AF7#32
  | 114 => 0x3D82BD3C#32
  | 115 => 0x3F1A8A3C#32
  | 116 => 0x3FB9A8BC#32
  | 117 => 0x400F3902#32
  | 118 => 0x4012C49C#32
  | 119 => 0x3FA8442B#32
  | 120 => 0x3F5716EE#32
  | 121 => 0x3F6FB7F5#32
  | 122 => 0xBF2B6C2E#32
  | 123 => 0xBE926A43#32
  | 124 => 0xBF7B936C#32
  | 125 => 0x4001D8BB#32
  | 126 => 0x3DF02EF9#32
  | 127 => 0xBEB47CCE#32
  | _ => 0#32

noncomputable abbrev lit0t0_658 (i : Nat) : BitVec 32 := match i % 128 with
  | 0 => 0xBF7687FA#32
  | 1 => 0xBE1D6DDB#32
  | 2 => 0xBF586100#32
  | 3 => 0x3FF28E7D#32
  | 4 => 0x40B1E14B#32
  | 5 => 0xBF85760D#32
  | 6 => 0xBEC032B4#32
  | 7 => 0x3F6E85DF#32
  | 8 => 0x3EBA994D#32
  | 9 => 0x3EC72DF3#32
  | 10 => 0x3FCC7EF8#32
  | 11 => 0xBD5E639D#32
  | 12 => 0xB9E103A3#32
  | 13 => 0x3E2798C3#32
  | 14 => 0xBF85AC24#32
  | 15 => 0x3BFD2630#32
  | 16 => 0x3F11703F#32
  | 17 => 0x3F7CE450#32
  | 18 => 0xBEE3F4B6#32
  | 19 => 0x3F7A71E9#32
  | 20 => 0x3FFFE9D3#32
  | 21 => 0x3F908CD0#32
  | 22 => 0x3FF4F7E3#32
  | 23 => 0xBE2E26F0#32
  | 24 => 0xBF436167#32
  | 25 => 0x3D8C7D5A#32
  | 26 => 0xBF39B7A5#32
  | 27 => 0xBF77C52A#32
  | 28 => 0x3F183D96#32
  | 29 => 0x3FA273CA#32
  | 30 => 0x3F5D7DA2#32
  | 31 => 0x3EC87C38#32
  | 32 => 0xBF04ED98#32
  | 33 => 0x3F7D58DD#32
  | 34 => 0x403DDA3D#32
  | 35 => 0xBE57A2E6#32
  | 36 => 0xBDD7FE67#32
  | 37 => 0xBF48BE88#32
  | 38 => 0x4021A1AC#32
  | 39 => 0x3F9C07A8#32
  | 40 => 0x401E8688#32
  | 41 => 0xBD8285EF#32
  | 42 => 0x40414BF6#32
  | 43 => 0x3EE7D1F8#32
  | 44 => 0x404F4A4D#32
  | 45 => 0xBF8DB20B#32
  | 46 => 0x40292A2E#32
  | 47 => 0x3F6B66AC#32
  | 48 => 0xBEC9C2B6#32
  | 49 => 0xBD99F1C0#32
  | 50 => 0x3FB239C3#32
  | 51 => 0x3FC8D20B#32
  | 52 => 0xBF1A3378#32
  | 53 => 0x40A0C2BE#32
  | 54 => 0x3E1336C5#32
  | 55 => 0xBEEDEA0C#32
  | 56 => 0xBF9BFF83#32
  | 57 => 0x3FFEEB48#32
  | 58 => 0x3DDE39BF#32
  | 59 => 0xBF8C7382#32
  | 60 => 0x3ECCA7C1#32
  | 61 => 0x3E39AA23#32
  | 62 => 0x3F018401#32
  | 63 => 0xBE3748F3#32
  | 64 => 0x3FD3365F#32
  | 65 => 0x3FDBA862#32
  | 66 => 0xBEEFCD8D#32
  | 67 => 0x3F6F4FD0#32
  | 68 => 0xBE4FED73#32
  | 69 => 0x3F35B82B#32
  | 70 => 0xBEC32BD9#32
  | 71 => 0x3F2F4CA7#32
  | 72 => 0x3D8E715A#32
  | 73 => 0xBF07F7F3#32
  | 74 => 0x3EC4F211#32
  | 75 => 0xBE8881F3#32
  | 76 => 0x3FB3244B#32
  | 77 => 0x3F2C5DC2#32
  | 78 => 0xBCF150DB#32
  | 79 => 0x3FE80996#32
  | 80 => 0x3E297FC3#32
  | 81 => 0x3FF155C3#32
  | 82 => 0x3E5CCD90#32
  | 83 => 0x404CA1ED#32
  | 84 => 0x3FE0B869#32
  | 85 => 0x40023C7E#32
  | 86 => 0x400E67E2#32
  | 87 => 0x40561915#32
  | 88 => 0x3F58C14A#32
  | 89 => 0x4014CFD4#32
  | 90 => 0x3E2F05BE#32
  | 91 => 0xBFCC81FB#32
  | 92 => 0x3F829DD2#32
  | 93 => 0xBE6370F4#32
  | 94 => 0x3EFB21CE#32
  | 95 => 0xBF96E864#32
  | 96 => 0x3FCF652D#32
  | 97 => 0x3F8CB2EC#32
  | 98 => 0xBF8EA891#32
  | 99 => 0xBF92CBDB#32
  | 100 => 0x3F22794E#32
  | 101 => 0x4067C1D3#32
  | 102 => 0x3F6F7718#32
  | 103 => 0xBEE33673#32
  | 104 => 0xBFB34F9C#32
  | 105 => 0x3F888136#32
  | 106 => 0xBF08FD5A#32
  | 107 => 0x3F73B362#32
  | 108 => 0xBE82EAB0#32
  | 109 => 0x3EFC432F#32
  | 110 => 0x3EAACABB#32
  | 111 => 0xBF9B64CE#32
  | 112 => 0x40982AFE#32
  | 113 => 0x3F752C60#32
  | 114 => 0x40275C67#32
  | 115 => 0x3F92A75C#32
  | 116 => 0xBEBE9112#32
  | 117 => 0xBF949E3F#32
  | 118 => 0x4033CFD5#32
  | 119 => 0xBE3D8179#32
  | 120 => 0xBE6E9F4A#32
  | 121 => 0xBF828C1F#32
  | 122 => 0x3EA29C9E#32
  | 123 => 0x3FE8CA52#32
  | 124 => 0x400A93FA#32
  | 125 => 0x3E637D9B#32
  | 126 => 0xBFD8D6BB#32
  | 127 => 0xBE4569C4#32
  | _ => 0#32

noncomputable abbrev lit0t0_659 (i : Nat) : BitVec 32 := match i % 128 with
  | 0 => 0x3F30A417#32
  | 1 => 0x3F8B36D4#32
  | 2 => 0x3DB85F98#32
  | 3 => 0x3F15C3C5#32
  | 4 => 0x3F39B9E2#32
  | 5 => 0x3FEDABF7#32
  | 6 => 0x3EE4B283#32
  | 7 => 0x3FC64F3C#32
  | 8 => 0xBED620B0#32
  | 9 => 0x3F61E4A0#32
  | 10 => 0x3FD57F90#32
  | 11 => 0x405AF32E#32
  | 12 => 0x3FA7A004#32
  | 13 => 0x3FA3657D#32
  | 14 => 0x3FAA5BB2#32
  | 15 => 0xBF2D8324#32
  | 16 => 0x3FCF08F9#32
  | 17 => 0xBF5F5640#32
  | 18 => 0xBEC773C5#32
  | 19 => 0x3DCB81CC#32
  | 20 => 0x3E801D9E#32
  | 21 => 0x3EEECAE2#32
  | 22 => 0x3EB4C2A3#32
  | 23 => 0x400E1219#32
  | 24 => 0x4046EE10#32
  | 25 => 0x401671DC#32
  | 26 => 0x40455482#32
  | 27 => 0xBDE188E5#32
  | 28 => 0xBF1326C9#32
  | 29 => 0xBC934902#32
  | 30 => 0x3F60CE65#32
  | 31 => 0x3E83F5ED#32
  | 32 => 0x3EEE8A56#32
  | 33 => 0x3FA14BF8#32
  | 34 => 0xBE3EDB33#32
  | 35 => 0xBE7C90F1#32
  | 36 => 0x3FD26161#32
  | 37 => 0x3D2F6160#32
  | 38 => 0xBF840455#32
  | 39 => 0xBCC7DB89#32
  | 40 => 0x3F1BB6DE#32
  | 41 => 0x3EF1E374#32
  | 42 => 0x3FD6742D#32
  | 43 => 0xBE04F8CD#32
  | 44 => 0x3F8A4558#32
  | 45 => 0x40372DD0#32
  | 46 => 0x3FA41280#32
  | 47 => 0xBFCCA808#32
  | 48 => 0x3FC9D1E3#32
  | 49 => 0xBF46DF49#32
  | 50 => 0x3FFF2280#32
  | 51 => 0x3F2FAF7B#32
  | 52 => 0xBEEBD621#32
  | 53 => 0xBF6A7FD5#32
  | 54 => 0xBF1DD9FA#32
  | 55 => 0xBF714B4A#32
  | 56 => 0xBF4C7FDD#32
  | 57 => 0xBD58055D#32
  | 58 => 0x400DF304#32
  | 59 => 0xBE71315E#32
  | 60 => 0x3DC6FB7C#32
  | 61 => 0xBE30D9F1#32
  | 62 => 0xBF915FF0#32
  | 63 => 0x3F293615#32
  | 64 => 0x3F289971#32
  | 65 => 0xBD81A6C2#32
  | 66 => 0xBFB9CF1D#32
  | 67 => 0xBF901E2F#32
  | 68 => 0xBD32B383#32
  | 69 => 0x3E39F153#32
  | 70 => 0xBED14E4A#32
  | 71 => 0x40342B4E#32
  | 72 => 0x3FEF8A79#32
  | 73 => 0xBF03EE5A#32
  | 74 => 0x3FF6FA53#32
  | 75 => 0xBDDC7175#32
  | 76 => 0xBF2D3D68#32
  | 77 => 0x3EE2C5C4#32
  | 78 => 0x3F45F3F5#32
  | 79 => 0x3EC5490D#32
  | 80 => 0x3F3160F7#32
  | 81 => 0xBE763099#32
  | 82 => 0xBF7EA1F1#32
  | 83 => 0x3E425173#32
  | 84 => 0xBDB70E47#32
  | 85 => 0x3F864D54#32
  | 86 => 0x3FD22F90#32
  | 87 => 0xBFA1C433#32
  | 88 => 0xBF524A1F#32
  | 89 => 0x405149BB#32
  | 90 => 0x3F660F5C#32
  | 91 => 0xBDFCB45D#32
  | 92 => 0xBEF87CFD#32
  | 93 => 0x3F869BAA#32
  | 94 => 0x3FD32C96#32
  | 95 => 0x3EA2918E#32
  | 96 => 0x3F702A30#32
  | 97 => 0x3D3FAB45#32
  | 98 => 0xBEB52BC2#32
  | 99 => 0x400768AA#32
  | 100 => 0x3DC54AAB#32
  | 101 => 0xBF11FC8F#32
  | 102 => 0x3FA739F7#32
  | 103 => 0x3FB9AACD#32
  | 104 => 0xBF99D12F#32
  | 105 => 0x4043E6C3#32
  | 106 => 0x3F06AE97#32
  | 107 => 0xBF323871#32
  | 108 => 0x40912965#32
  | 109 => 0xBFBC27FD#32
  | 110 => 0xBF427FA7#32
  | 111 => 0x407335CE#32
  | 112 => 0x4009E618#32
  | 113 => 0x3DFA98F2#32
  | 114 => 0xBF440564#32
  | 115 => 0x3DF25668#32
  | 116 => 0x3DBA0F21#32
  | 117 => 0x3F9EE085#32
  | 118 => 0x3F91ECDD#32
  | 119 => 0xBE1EDA41#32
  | 120 => 0x3E530401#32
  | 121 => 0xBF4E2E83#32
  | 122 => 0x3EF4818A#32
  | 123 => 0x3F50D714#32
  | 124 => 0x3FBEAEE1#32
  | 125 => 0x3F83628A#32
  | 126 => 0xBFD6FC7C#32
  | 127 => 0xBED3EC3D#32
  | _ => 0#32

noncomputable abbrev lit0t0_660 (i : Nat) : BitVec 32 := match i % 128 with
  | 0 => 0x3F9C552F#32
  | 1 => 0xBF4596E8#32
  | 2 => 0x402296E9#32
  | 3 => 0x3FEE49BE#32
  | 4 => 0x402E191F#32
  | 5 => 0x40504E98#32
  | 6 => 0x4036841F#32
  | 7 => 0x3E1FA524#32
  | 8 => 0x3FF5B3F4#32
  | 9 => 0xBF0B1690#32
  | 10 => 0xBE58F548#32
  | 11 => 0x3F38A0AC#32
  | 12 => 0x3EA0F577#32
  | 13 => 0x3FB2B3CF#32
  | 14 => 0xBF36C4B4#32
  | 15 => 0x3E26C9B6#32
  | 16 => 0x3DEE4E76#32
  | 17 => 0x3FAB01FF#32
  | 18 => 0xBE50D310#32
  | 19 => 0x40312DBC#32
  | 20 => 0x40A5FC71#32
  | 21 => 0x3F8C6E6E#32
  | 22 => 0xBF9A5E44#32
  | 23 => 0x40281455#32
  | 24 => 0x4059A464#32
  | 25 => 0x401E5A87#32
  | 26 => 0xBF6B343E#32
  | 27 => 0xBC349745#32
  | 28 => 0x3FE9217E#32
  | 29 => 0x3F6FE47A#32
  | 30 => 0x3E04ABEF#32
  | 31 => 0xBE499533#32
  | 32 => 0x3EE77195#32
  | 33 => 0x3E0A62C6#32
  | 34 => 0x3F04C6CC#32
  | 35 => 0x3FF98787#32
  | 36 => 0x3FB92A3B#32
  | 37 => 0xBF92DC57#32
  | 38 => 0x401E643F#32
  | 39 => 0x3F987177#32
  | 40 => 0xBF3FC2E4#32
  | 41 => 0x3ECF0A97#32
  | 42 => 0xBDFEBD02#32
  | 43 => 0x3E077F0A#32
  | 44 => 0x3FD2DCC0#32
  | 45 => 0xBF0851FB#32
  | 46 => 0x40B649C7#32
  | 47 => 0xBF7B1128#32
  | 48 => 0x4091A1C5#32
  | 49 => 0xBF3B9F6D#32
  | 50 => 0x40725782#32
  | 51 => 0x4090B0D6#32
  | 52 => 0x3C890762#32
  | 53 => 0x4009F388#32
  | 54 => 0x3CB7A2DE#32
  | 55 => 0xBE19719A#32
  | 56 => 0xBF035A2E#32
  | 57 => 0x3F0F53C8#32
  | 58 => 0xBEFDE436#32
  | 59 => 0x3D5CB3D3#32
  | 60 => 0x3F8F1732#32
  | 61 => 0xBF3FD2AB#32
  | 62 => 0xBEF9F91A#32
  | 63 => 0x3FC59AAA#32
  | 64 => 0x3FF478BD#32
  | 65 => 0x3FB32E8C#32
  | 66 => 0x3EC03A6A#32
  | 67 => 0x3EF36180#32
  | 68 => 0xBFDAA962#32
  | 69 => 0xBF46893E#32
  | 70 => 0x3F88200E#32
  | 71 => 0x3F041E31#32
  | 72 => 0x3F4E81FC#32
  | 73 => 0xBDB2829C#32
  | 74 => 0x3FB11E38#32
  | 75 => 0xBDD630C6#32
  | 76 => 0x4010CC1E#32
  | 77 => 0x403E89A9#32
  | 78 => 0xBEDF5BE1#32
  | 79 => 0x3F1FF1E4#32
  | 80 => 0x3F99EE6D#32
  | 81 => 0x401D4CD9#32
  | 82 => 0x3EAA011B#32
  | 83 => 0x400B7B21#32
  | 84 => 0x406574E7#32
  | 85 => 0xBFA29609#32
  | 86 => 0xBE391C21#32
  | 87 => 0xBF3AC892#32
  | 88 => 0x404771DB#32
  | 89 => 0xBD0ED36D#32
  | 90 => 0x3F48C14C#32
  | 91 => 0x3FAA0636#32
  | 92 => 0x3F5E8AF0#32
  | 93 => 0xBEC042FF#32
  | 94 => 0x3FAA1717#32
  | 95 => 0x3FD7D336#32
  | 96 => 0xBF87F7EC#32
  | 97 => 0xBE9752F2#32
  | 98 => 0xBF17F5D1#32
  | 99 => 0xBEB34185#32
  | 100 => 0x3F8A47CD#32
  | 101 => 0xBDD0D884#32
  | 102 => 0x3DB85E66#32
  | 103 => 0xBD59E6CD#32
  | 104 => 0x3E7A58D5#32
  | 105 => 0x3F05856F#32
  | 106 => 0xBF843450#32
  | 107 => 0x40044469#32
  | 108 => 0x3F89B421#32
  | 109 => 0xBFB31ED9#32
  | 110 => 0x3FF90D70#32
  | 111 => 0x40189B8C#32
  | 112 => 0x3D771F7F#32
  | 113 => 0x3F850C16#32
  | 114 => 0x3EDDB0AA#32
  | 115 => 0xBFB39E4E#32
  | 116 => 0xBF520A7F#32
  | 117 => 0xBF8B38EF#32
  | 118 => 0x40113238#32
  | 119 => 0x3FA1DA86#32
  | 120 => 0xBF6DE324#32
  | 121 => 0xBF3D7D93#32
  | 122 => 0xBF58FF3C#32
  | 123 => 0xBFA939FB#32
  | 124 => 0xBE590DD4#32
  | 125 => 0x3D294B6F#32
  | 126 => 0x3FF747D9#32
  | 127 => 0x3F05A6A8#32
  | _ => 0#32

noncomputable abbrev lit0t0_661 (i : Nat) : BitVec 32 := match i % 128 with
  | 0 => 0xBF865144#32
  | 1 => 0xBBB0F279#32
  | 2 => 0x3F06B58A#32
  | 3 => 0xBF993BD5#32
  | 4 => 0x3E955AF5#32
  | 5 => 0xBE4BDB58#32
  | 6 => 0x3F4AFF8F#32
  | 7 => 0x409D8B2F#32
  | 8 => 0x3F3F4E9E#32
  | 9 => 0x3F79932E#32
  | 10 => 0xBFB858F1#32
  | 11 => 0x3FDDE843#32
  | 12 => 0x3E82C660#32
  | 13 => 0xBF3B99B6#32
  | 14 => 0x3FBB4F5B#32
  | 15 => 0xBF2B1A98#32
  | 16 => 0x3D2E524C#32
  | 17 => 0xBE5C052E#32
  | 18 => 0x4077AC99#32
  | 19 => 0x3F16635D#32
  | 20 => 0xBECF5D7C#32
  | 21 => 0x3EDC1CBE#32
  | 22 => 0x403377E3#32
  | 23 => 0xBF7BFA0A#32
  | 24 => 0x3FA46986#32
  | 25 => 0x3F8028D7#32
  | 26 => 0x3F96CD14#32
  | 27 => 0xBEC086B3#32
  | 28 => 0xBECDE9E8#32
  | 29 => 0xBF324545#32
  | 30 => 0x3F5AFD3C#32
  | 31 => 0xBB7078EB#32
  | 32 => 0x3F76D22A#32
  | 33 => 0x4014AC66#32
  | 34 => 0x401229D9#32
  | 35 => 0xBD886F35#32
  | 36 => 0x3EC3123D#32
  | 37 => 0xBDA6C2E4#32
  | 38 => 0x3FCF2798#32
  | 39 => 0xBE5410D1#32
  | 40 => 0xBF6BDBC8#32
  | 41 => 0x40437267#32
  | 42 => 0x3F4DA1D0#32
  | 43 => 0x3E3E4C22#32
  | 44 => 0xBF267E44#32
  | 45 => 0xBECFB966#32
  | 46 => 0xBD849920#32
  | 47 => 0x3FE17AE4#32
  | 48 => 0x3F81881E#32
  | 49 => 0x3F88FA6A#32
  | 50 => 0xBDA01857#32
  | 51 => 0x3FAD583E#32
  | 52 => 0xBF76BCBE#32
  | 53 => 0x3FC404D5#32
  | 54 => 0xBF895FC0#32
  | 55 => 0x3FC5DD50#32
  | 56 => 0xBD011B76#32
  | 57 => 0xBF48E2D4#32
  | 58 => 0x3F41BD84#32
  | 59 => 0x3FEAB5C4#32
  | 60 => 0x3E8FF86A#32
  | 61 => 0x3EAB4543#32
  | 62 => 0x402B89C5#32
  | 63 => 0x402D292D#32
  | 64 => 0xBDADA67F#32
  | 65 => 0xBE0219A8#32
  | 66 => 0xBE5A8B4C#32
  | 67 => 0xBE524798#32
  | 68 => 0x3F9602B0#32
  | 69 => 0x3DCEC67B#32
  | 70 => 0x4009DB20#32
  | 71 => 0x3EE85A4C#32
  | 72 => 0xBF251FAA#32
  | 73 => 0x3EBD34C7#32
  | 74 => 0x3F2A344C#32
  | 75 => 0xBE5247C6#32
  | 76 => 0xBF9FD33A#32
  | 77 => 0x3F118249#32
  | 78 => 0x408D28A2#32
  | 79 => 0xBEF27224#32
  | 80 => 0x3F63567C#32
  | 81 => 0x3E580B56#32
  | 82 => 0x3E877407#32
  | 83 => 0x3E17FDA2#32
  | 84 => 0x3F41EC8A#32
  | 85 => 0xBDE0A52A#32
  | 86 => 0xBE1F0CAB#32
  | 87 => 0xBF303009#32
  | 88 => 0x40300AA8#32
  | 89 => 0xBFB14A6E#32
  | 90 => 0x404AE821#32
  | 91 => 0x3F304E62#32
  | 92 => 0x3FE2ECAD#32
  | 93 => 0x3F7D3C38#32
  | 94 => 0x402E3D9F#32
  | 95 => 0xBF369F55#32
  | 96 => 0xBF86B718#32
  | 97 => 0xBFB4AB4F#32
  | 98 => 0xBF6FDEA7#32
  | 99 => 0xBCD8958D#32
  | 100 => 0xBE3521B6#32
  | 101 => 0x3F6A8EA6#32
  | 102 => 0xBE9EA6CC#32
  | 103 => 0xBE90369C#32
  | 104 => 0x3FBBC388#32
  | 105 => 0x40373F56#32
  | 106 => 0x3FBEED57#32
  | 107 => 0xBFB74E37#32
  | 108 => 0xBDF4F5CD#32
  | 109 => 0x40355F5F#32
  | 110 => 0x3E489484#32
  | 111 => 0xBDFDF160#32
  | 112 => 0x40249FB8#32
  | 113 => 0xBF09883A#32
  | 114 => 0x400040BF#32
  | 115 => 0x40760745#32
  | 116 => 0x3E92EB49#32
  | 117 => 0x3F5CADE2#32
  | 118 => 0xBFC35304#32
  | 119 => 0xBF95F686#32
  | 120 => 0x400A5818#32
  | 121 => 0x3F9ECB40#32
  | 122 => 0x3F7931E5#32
  | 123 => 0x3F962150#32
  | 124 => 0xBDD3001A#32
  | 125 => 0x3FC05D9B#32
  | 126 => 0xBED98FB3#32
  | 127 => 0x3E841A94#32
  | _ => 0#32

noncomputable abbrev lit0t0_662 (i : Nat) : BitVec 32 := match i % 128 with
  | 0 => 0xBEBAB96B#32
  | 1 => 0x3F3CF395#32
  | 2 => 0xBEEAB803#32
  | 3 => 0x40317BE9#32
  | 4 => 0xBE637A63#32
  | 5 => 0x3F9985E0#32
  | 6 => 0xBEBBE758#32
  | 7 => 0x3F826C19#32
  | 8 => 0xBE2C79CD#32
  | 9 => 0xBF262861#32
  | 10 => 0x3EEBF772#32
  | 11 => 0x3E58BC5F#32
  | 12 => 0x3F722CA4#32
  | 13 => 0x3E33FB4F#32
  | 14 => 0x4015390A#32
  | 15 => 0x3EBD8026#32
  | 16 => 0x3F817D14#32
  | 17 => 0xBF618F7B#32
  | 18 => 0xBE433B99#32
  | 19 => 0x3E606D80#32
  | 20 => 0x3FA8370F#32
  | 21 => 0x3F5FA5C2#32
  | 22 => 0x3F32A2E5#32
  | 23 => 0x3FB9D1F4#32
  | 24 => 0xBC3C1A82#32
  | 25 => 0xBF53CBD8#32
  | 26 => 0xBFA6009F#32
  | 27 => 0x3F523A3A#32
  | 28 => 0x405346C8#32
  | 29 => 0x3FF9165C#32
  | 30 => 0x4093FC00#32
  | 31 => 0xBF310417#32
  | 32 => 0x3EDA313F#32
  | 33 => 0x40181F97#32
  | 34 => 0x3EAC01E5#32
  | 35 => 0xBECD6BE6#32
  | 36 => 0x3F441FB5#32
  | 37 => 0x404B8486#32
  | 38 => 0x3EC91363#32
  | 39 => 0x402FB9D4#32
  | 40 => 0x3FFE3467#32
  | 41 => 0x3EB5626C#32
  | 42 => 0x3FC91CD0#32
  | 43 => 0xBF91D22D#32
  | 44 => 0x3F6C0495#32
  | 45 => 0xBF73617C#32
  | 46 => 0x3FC94490#32
  | 47 => 0x3FE5DE7E#32
  | 48 => 0x3EAFA7A4#32
  | 49 => 0xBE18421D#32
  | 50 => 0x3F1D0B79#32
  | 51 => 0x3F8D58A1#32
  | 52 => 0xBFA16FFF#32
  | 53 => 0x40332F7F#32
  | 54 => 0xBEEDF820#32
  | 55 => 0x3F932283#32
  | 56 => 0xBF88CC2A#32
  | 57 => 0xBF044CD8#32
  | 58 => 0x3FE2E173#32
  | 59 => 0x3DF6181B#32
  | 60 => 0x3F29E711#32
  | 61 => 0xBEA4FE38#32
  | 62 => 0x3F152592#32
  | 63 => 0x40D0F92E#32
  | 64 => 0xBFB653B4#32
  | 65 => 0xBE0D7AA4#32
  | 66 => 0x3F2B7ABC#32
  | 67 => 0x4002D279#32
  | 68 => 0xBED3AFDC#32
  | 69 => 0x3F7D5610#32
  | 70 => 0x3E903DC6#32
  | 71 => 0xBEAE5CFF#32
  | 72 => 0x4031754A#32
  | 73 => 0xBE5FCCA3#32
  | 74 => 0x3F8774C6#32
  | 75 => 0x3F1DDFE7#32
  | 76 => 0xBF76DF49#32
  | 77 => 0x3F1E2CDA#32
  | 78 => 0xBF090BC2#32
  | 79 => 0xBDC21F53#32
  | 80 => 0x4017C793#32
  | 81 => 0xBE664F7C#32
  | 82 => 0x3FA1B350#32
  | 83 => 0x3EAA8E78#32
  | 84 => 0x3FE4835B#32
  | 85 => 0xBF596B32#32
  | 86 => 0xBF41FDB8#32
  | 87 => 0x3F15B3FB#32
  | 88 => 0xBF847A99#32
  | 89 => 0x3E7FAA8C#32
  | 90 => 0xBF2F2B42#32
  | 91 => 0x3FC0429E#32
  | 92 => 0x403266F1#32
  | 93 => 0xBF9F693D#32
  | 94 => 0xBDAC0442#32
  | 95 => 0x3DCF1FBF#32
  | 96 => 0xBEAEB9AE#32
  | 97 => 0x3EF4BD5E#32
  | 98 => 0xBF03A45F#32
  | 99 => 0x3EBCFD5F#32
  | 100 => 0x3B05B7E6#32
  | 101 => 0x40406037#32
  | 102 => 0xBDCA6AB9#32
  | 103 => 0x3F90479D#32
  | 104 => 0x3FA351BE#32
  | 105 => 0xBEC6BCCF#32
  | 106 => 0xBF04250F#32
  | 107 => 0xBE6F8444#32
  | 108 => 0xBF3DC281#32
  | 109 => 0xBF9F79FB#32
  | 110 => 0xBF457420#32
  | 111 => 0x3F97F52F#32
  | 112 => 0x3E85C11F#32
  | 113 => 0xBD8252AE#32
  | 114 => 0x402DB4E6#32
  | 115 => 0x3F0FB945#32
  | 116 => 0xBE54D295#32
  | 117 => 0xBF9C646D#32
  | 118 => 0x3F67DC1D#32
  | 119 => 0x3E788B29#32
  | 120 => 0xBE65BCDA#32
  | 121 => 0xBF48010D#32
  | 122 => 0x3F5372E1#32
  | 123 => 0xBF149593#32
  | 124 => 0xBF215343#32
  | 125 => 0xBF4EEF45#32
  | 126 => 0xBF965AE2#32
  | 127 => 0x3E926FF8#32
  | _ => 0#32

noncomputable abbrev lit0t0_663 (i : Nat) : BitVec 32 := match i % 128 with
  | 0 => 0x402F6B2E#32
  | 1 => 0x3F04CF5E#32
  | 2 => 0xBF859C14#32
  | 3 => 0x3EAB60A5#32
  | 4 => 0x3F3F4771#32
  | 5 => 0x3F82AE40#32
  | 6 => 0xBF0BB540#32
  | 7 => 0x3FC96C13#32
  | 8 => 0xBE0AF67B#32
  | 9 => 0xBF44B4FE#32
  | 10 => 0x3F0B7B4E#32
  | 11 => 0xBD5466DB#32
  | 12 => 0x3F0AD9BB#32
  | 13 => 0xBEE40472#32
  | 14 => 0xBEB6AE26#32
  | 15 => 0xBEBC456F#32
  | 16 => 0xBEEA13D3#32
  | 17 => 0x3F8EB4E6#32
  | 18 => 0x3FF9B608#32
  | 19 => 0xBD7F36DC#32
  | 20 => 0x3F27D0E0#32
  | 21 => 0x40083E57#32
  | 22 => 0x3CFF987C#32
  | 23 => 0xBE9CFBC7#32
  | 24 => 0xBF68436F#32
  | 25 => 0x3F30B04F#32
  | 26 => 0x3F503F3D#32
  | 27 => 0x3F21C559#32
  | 28 => 0x3FE1AEA2#32
  | 29 => 0x3F3F8088#32
  | 30 => 0xBFEA8B2D#32
  | 31 => 0x40076F8A#32
  | 32 => 0x40827F45#32
  | 33 => 0x3FBE2270#32
  | 34 => 0x3F97B4E3#32
  | 35 => 0xBF2972A8#32
  | 36 => 0x3F54BC50#32
  | 37 => 0x3F4A3000#32
  | 38 => 0xBEBA57D7#32
  | 39 => 0x3F63844D#32
  | 40 => 0x3F2368C6#32
  | 41 => 0x3FC292A2#32
  | 42 => 0xBF6580E7#32
  | 43 => 0x3CCBBCBB#32
  | 44 => 0x3FD25E0C#32
  | 45 => 0x4012F7B0#32
  | 46 => 0xBF1C855C#32
  | 47 => 0xBF619362#32
  | 48 => 0x3FECC0AD#32
  | 49 => 0x3EDF305A#32
  | 50 => 0x3F8A2A9D#32
  | 51 => 0x3F8EDD86#32
  | 52 => 0x3F930E30#32
  | 53 => 0x3F349037#32
  | 54 => 0xBDA8802A#32
  | 55 => 0xBF95BEDB#32
  | 56 => 0xBF1BD4FA#32
  | 57 => 0x3E90A458#32
  | 58 => 0x3F0FC261#32
  | 59 => 0xBE5604CE#32
  | 60 => 0x3EA98204#32
  | 61 => 0x3F733008#32
  | 62 => 0xBE2425E9#32
  | 63 => 0x3F724714#32
  | 64 => 0xBD37DDEB#32
  | 65 => 0x40032AB2#32
  | 66 => 0x3FCB555F#32
  | 67 => 0x3FD5059D#32
  | 68 => 0x3F333365#32
  | 69 => 0x3F3EEA89#32
  | 70 => 0x3EBB8362#32
  | 71 => 0xBF965816#32
  | 72 => 0xBF6A73D9#32
  | 73 => 0xBFC11E5E#32
  | 74 => 0xBEAC2F40#32
  | 75 => 0x3E000367#32
  | 76 => 0xBDA3F48C#32
  | 77 => 0x3F7F2998#32
  | 78 => 0xBE4DC5AE#32
  | 79 => 0x3F84048A#32
  | 80 => 0x3E72E1B5#32
  | 81 => 0x3F9F8594#32
  | 82 => 0xBF8F0745#32
  | 83 => 0x3FC6D65F#32
  | 84 => 0x400C845A#32
  | 85 => 0xBF342421#32
  | 86 => 0x3EE2A6C0#32
  | 87 => 0xBF2B8A3A#32
  | 88 => 0x3F15957C#32
  | 89 => 0x3FA1F26B#32
  | 90 => 0xBEA64620#32
  | 91 => 0x3FACC70E#32
  | 92 => 0x3F6A09ED#32
  | 93 => 0x3FCACDD9#32
  | 94 => 0x3FFCD442#32
  | 95 => 0x3D359B15#32
  | 96 => 0x3EBA015A#32
  | 97 => 0xBF8877C9#32
  | 98 => 0x3FD46F8D#32
  | 99 => 0x3FD0D083#32
  | 100 => 0xBEACDB38#32
  | 101 => 0xBF2414C1#32
  | 102 => 0x3FAD060C#32
  | 103 => 0xBEA27874#32
  | 104 => 0x3E8F4C24#32
  | 105 => 0xBD9304CD#32
  | 106 => 0x3FBCD28A#32
  | 107 => 0x3E59ED76#32
  | 108 => 0x3E815C00#32
  | 109 => 0x3FA46D57#32
  | 110 => 0x3E1D0E0A#32
  | 111 => 0x3F8D0E06#32
  | 112 => 0xBEE10527#32
  | 113 => 0xBF447CC6#32
  | 114 => 0x3DF09545#32
  | 115 => 0x3F8108D5#32
  | 116 => 0xBEFDB808#32
  | 117 => 0x3F5189D0#32
  | 118 => 0x3E080FFE#32
  | 119 => 0xBD0F115A#32
  | 120 => 0x3F8D5BE2#32
  | 121 => 0x3F130315#32
  | 122 => 0x401884BC#32
  | 123 => 0x3FAD4B46#32
  | 124 => 0xBF2792D3#32
  | 125 => 0xBEC3BDEE#32
  | 126 => 0x3F4D3CEE#32
  | 127 => 0x3F60EF54#32
  | _ => 0#32

noncomputable abbrev lit0t0_664 (i : Nat) : BitVec 32 := match i % 128 with
  | 0 => 0xBF620168#32
  | 1 => 0x400767FD#32
  | 2 => 0xBFC4B4F3#32
  | 3 => 0xBE63F7D5#32
  | 4 => 0xBEF156E8#32
  | 5 => 0xBEA8FA0F#32
  | 6 => 0xBE4F041A#32
  | 7 => 0x3FBE7094#32
  | 8 => 0x4025FCE7#32
  | 9 => 0xBF8A2D3A#32
  | 10 => 0xBDD8F375#32
  | 11 => 0x3EC602EE#32
  | 12 => 0xBF41A638#32
  | 13 => 0xBEE2F46D#32
  | 14 => 0x3F9EC822#32
  | 15 => 0x400E373C#32
  | 16 => 0xBE90CED1#32
  | 17 => 0x40187AF1#32
  | 18 => 0x3FB7D4E2#32
  | 19 => 0xBD0ADE9B#32
  | 20 => 0x3ED9DC12#32
  | 21 => 0xBF52608F#32
  | 22 => 0xBF224F2A#32
  | 23 => 0x3FEF5FBF#32
  | 24 => 0x40140907#32
  | 25 => 0xBF2C9DAC#32
  | 26 => 0x3ECEA6CD#32
  | 27 => 0xBE9DFB3E#32
  | 28 => 0xBE3F7DA3#32
  | 29 => 0x400210A3#32
  | 30 => 0x3F464162#32
  | 31 => 0x40108759#32
  | 32 => 0xBFB0A798#32
  | 33 => 0xBE20D944#32
  | 34 => 0xBE9545CD#32
  | 35 => 0xBEAAD516#32
  | 36 => 0xBFA756F4#32
  | 37 => 0xBF41CC7B#32
  | 38 => 0xBF554001#32
  | 39 => 0x3F67A7B8#32
  | 40 => 0x3C0B9508#32
  | 41 => 0x3F1D97DB#32
  | 42 => 0xBDF46D6C#32
  | 43 => 0xBF179C70#32
  | 44 => 0x3F61B2A1#32
  | 45 => 0x405D4A31#32
  | 46 => 0xBF7F0F11#32
  | 47 => 0x3EDC81EE#32
  | 48 => 0x3EE93A27#32
  | 49 => 0x3F641595#32
  | 50 => 0x3F90648B#32
  | 51 => 0x3CF863FC#32
  | 52 => 0x406CEE0C#32
  | 53 => 0x3F4EF2EA#32
  | 54 => 0xBE079E9F#32
  | 55 => 0xBD532495#32
  | 56 => 0x408E3ADE#32
  | 57 => 0xBEEE9626#32
  | 58 => 0xBF076A07#32
  | 59 => 0xBF40260A#32
  | 60 => 0xBF798990#32
  | 61 => 0x3F4235FA#32
  | 62 => 0xBF0446D7#32
  | 63 => 0x3FE3B4C8#32
  | 64 => 0x3F6D5823#32
  | 65 => 0xBF37774C#32
  | 66 => 0x401C2714#32
  | 67 => 0x3F156063#32
  | 68 => 0xBF12E4D3#32
  | 69 => 0xBEC54433#32
  | 70 => 0x3C20B6A1#32
  | 71 => 0x3F527CF2#32
  | 72 => 0x3D8A30E6#32
  | 73 => 0xBCF90DEA#32
  | 74 => 0x3D67998D#32
  | 75 => 0xBF084264#32
  | 76 => 0x3EFABD09#32
  | 77 => 0xBF331C66#32
  | 78 => 0x3E00A336#32
  | 79 => 0x40555790#32
  | 80 => 0x3EEFE3E2#32
  | 81 => 0x3F0CC29C#32
  | 82 => 0xBF039731#32
  | 83 => 0x4069F60C#32
  | 84 => 0x3F75C762#32
  | 85 => 0xBF6FE77E#32
  | 86 => 0x3E8870FA#32
  | 87 => 0x3F4C93EA#32
  | 88 => 0x3F4E8D42#32
  | 89 => 0x3F6873E1#32
  | 90 => 0x3FB83574#32
  | 91 => 0xBDE4D4FE#32
  | 92 => 0x3F3E06DF#32
  | 93 => 0xBF27FAA4#32
  | 94 => 0xBDBDF637#32
  | 95 => 0xBFA16ACA#32
  | 96 => 0xBDFC4047#32
  | 97 => 0xBE6C695F#32
  | 98 => 0x40099172#32
  | 99 => 0xBF3FC567#32
  | 100 => 0xBFAD718C#32
  | 101 => 0xBE8AF5BC#32
  | 102 => 0xBDC6E674#32
  | 103 => 0x3D80EC01#32
  | 104 => 0x3E236589#32
  | 105 => 0xBEF2A594#32
  | 106 => 0x3FF0C4A0#32
  | 107 => 0x400D2336#32
  | 108 => 0x4064CE61#32
  | 109 => 0xBF8C6D82#32
  | 110 => 0x3F5CC95E#32
  | 111 => 0x3FDEF6E2#32
  | 112 => 0x3F567FB2#32
  | 113 => 0x3EDA4C53#32
  | 114 => 0xBF48E56A#32
  | 115 => 0xBE0CDFDC#32
  | 116 => 0x40260F5B#32
  | 117 => 0xBF76B4D6#32
  | 118 => 0x3E3C5D84#32
  | 119 => 0x401D8B9B#32
  | 120 => 0xBE71EF15#32
  | 121 => 0x4023E811#32
  | 122 => 0x3F2D8158#32
  | 123 => 0xBF4E7DBE#32
  | 124 => 0x3F14075F#32
  | 125 => 0x3F548F61#32
  | 126 => 0x3E59CE26#32
  | 127 => 0x3F8701B9#32
  | _ => 0#32

noncomputable abbrev lit0t0_665 (i : Nat) : BitVec 32 := match i % 128 with
  | 0 => 0x3F350201#32
  | 1 => 0x3F1A9FC4#32
  | 2 => 0x3EEB25DA#32
  | 3 => 0x403784FE#32
  | 4 => 0x3FFA1BD9#32
  | 5 => 0x3EA63B0E#32
  | 6 => 0x3EA51979#32
  | 7 => 0x3FA16DF2#32
  | 8 => 0xBF2B6F65#32
  | 9 => 0x3F7F583C#32
  | 10 => 0x4013CD71#32
  | 11 => 0x3EB70110#32
  | 12 => 0x3FDD0DAB#32
  | 13 => 0x3F3468BA#32
  | 14 => 0x3E2C658C#32
  | 15 => 0xBF2933B5#32
  | 16 => 0xBE115038#32
  | 17 => 0xBEC29F1B#32
  | 18 => 0xBE8EE3FE#32
  | 19 => 0x3F90F5B9#32
  | 20 => 0xBEAA428E#32
  | 21 => 0xBCA89C3A#32
  | 22 => 0x3F60524A#32
  | 23 => 0x4056781B#32
  | 24 => 0x3E02C466#32
  | 25 => 0xBF20E11B#32
  | 26 => 0x3FB22A40#32
  | 27 => 0x3FAFA0A4#32
  | 28 => 0x3A701C24#32
  | 29 => 0x3FFE4CAB#32
  | 30 => 0xBF174073#32
  | 31 => 0x3FA50561#32
  | 32 => 0x3FD7E03C#32
  | 33 => 0xBEBD7B02#32
  | 34 => 0xBF5978CD#32
  | 35 => 0xBFB0178C#32
  | 36 => 0x3FB6BA43#32
  | 37 => 0xBE4E0CC8#32
  | 38 => 0xBF8FCB32#32
  | 39 => 0x3F1C0450#32
  | 40 => 0x3F25FA93#32
  | 41 => 0xBF14D53D#32
  | 42 => 0xBFAD8F4E#32
  | 43 => 0xBF3F78E6#32
  | 44 => 0x408C9199#32
  | 45 => 0xBF0CD62C#32
  | 46 => 0x40102EE7#32
  | 47 => 0xBE0CE768#32
  | 48 => 0x3EDFB3C1#32
  | 49 => 0xBCEE3A17#32
  | 50 => 0xBE0D681A#32
  | 51 => 0x3DD7E27D#32
  | 52 => 0xBEE10A85#32
  | 53 => 0xBEF55CE4#32
  | 54 => 0x406CF62A#32
  | 55 => 0xBE1EFB8B#32
  | 56 => 0x3E901639#32
  | 57 => 0x3D9E1F12#32
  | 58 => 0x3F81FBF5#32
  | 59 => 0xBDBEDC21#32
  | 60 => 0xBEE27CEA#32
  | 61 => 0xBF276D25#32
  | 62 => 0x3F8B92DC#32
  | 63 => 0xBFB809DE#32
  | 64 => 0x3F490228#32
  | 65 => 0x400CC04B#32
  | 66 => 0x3EB8D740#32
  | 67 => 0x3F6AA3A0#32
  | 68 => 0x3FA018D4#32
  | 69 => 0x3F3835D8#32
  | 70 => 0x4083A600#32
  | 71 => 0x3E1FCAF6#32
  | 72 => 0xBF350EE0#32
  | 73 => 0x3EDD693D#32
  | 74 => 0x3FB58D25#32
  | 75 => 0x40C94A05#32
  | 76 => 0x3DA94339#32
  | 77 => 0x3F6673BE#32
  | 78 => 0xBF821E38#32
  | 79 => 0xBEA70428#32
  | 80 => 0xBF195AB1#32
  | 81 => 0x3FADA7C9#32
  | 82 => 0x3DF9C831#32
  | 83 => 0xBF9A3C1E#32
  | 84 => 0xBD0920E1#32
  | 85 => 0x3F9CB518#32
  | 86 => 0x3FB9963A#32
  | 87 => 0x3FCC5346#32
  | 88 => 0x3EAF05EB#32
  | 89 => 0x3F35944C#32
  | 90 => 0xBF977A6B#32
  | 91 => 0xBF358D83#32
  | 92 => 0x3E63B598#32
  | 93 => 0x3FB4135A#32
  | 94 => 0x3F8EF265#32
  | 95 => 0x3FBB7DEC#32
  | 96 => 0xBF093BC0#32
  | 97 => 0xBDCE9E0B#32
  | 98 => 0x408DAF80#32
  | 99 => 0x4069F04F#32
  | 100 => 0x4050DD98#32
  | 101 => 0xBD6F2942#32
  | 102 => 0xBE55E28D#32
  | 103 => 0x3FA369A7#32
  | 104 => 0x3DE72789#32
  | 105 => 0x3F15CECE#32
  | 106 => 0xBEE01842#32
  | 107 => 0xBFA8E32F#32
  | 108 => 0x3EEC9339#32
  | 109 => 0xBECF0958#32
  | 110 => 0x3FA55600#32
  | 111 => 0xBF03E683#32
  | 112 => 0x3EC5EA70#32
  | 113 => 0x3E18CC2D#32
  | 114 => 0x3DB4C1DC#32
  | 115 => 0xBF19549F#32
  | 116 => 0x3F96336D#32
  | 117 => 0x3E45F97F#32
  | 118 => 0xBFA291C0#32
  | 119 => 0x3CC06810#32
  | 120 => 0x3F79B8AC#32
  | 121 => 0x3F0D99EF#32
  | 122 => 0x3E73E5CF#32
  | 123 => 0x3FFC4521#32
  | 124 => 0xBF6631FD#32
  | 125 => 0xBEE9A67F#32
  | 126 => 0x401DCC5C#32
  | 127 => 0xBEC7B393#32
  | _ => 0#32

noncomputable abbrev lit0t0_666 (i : Nat) : BitVec 32 := match i % 128 with
  | 0 => 0x3F156757#32
  | 1 => 0x3F48893B#32
  | 2 => 0x3ED1A75D#32
  | 3 => 0xBE9F23DE#32
  | 4 => 0x3F3757C0#32
  | 5 => 0x3F8B8519#32
  | 6 => 0x3E16F38B#32
  | 7 => 0x400D696C#32
  | 8 => 0x40131232#32
  | 9 => 0x401B2054#32
  | 10 => 0x4087B73E#32
  | 11 => 0x3EEDE79E#32
  | 12 => 0xBF21F9B7#32
  | 13 => 0xBF16E3F5#32
  | 14 => 0x3F8C19F4#32
  | 15 => 0xBA0836F0#32
  | 16 => 0xBF3A5083#32
  | 17 => 0x3DA09B77#32
  | 18 => 0x3F41C4F8#32
  | 19 => 0xBF6E67F0#32
  | 20 => 0x3F61F4FC#32
  | 21 => 0xBF617100#32
  | 22 => 0xBD6CD4EF#32
  | 23 => 0x3F20D5CD#32
  | 24 => 0x3E40E012#32
  | 25 => 0xBFA716C6#32
  | 26 => 0x3C163BCB#32
  | 27 => 0xBF42CDFC#32
  | 28 => 0xBEF20804#32
  | 29 => 0x3CDC6702#32
  | 30 => 0x3EC25BDB#32
  | 31 => 0x400B2AD0#32
  | 32 => 0xBD8FCD73#32
  | 33 => 0xBF3D96B8#32
  | 34 => 0xBD7E3616#32
  | 35 => 0x40441F92#32
  | 36 => 0x3E401D21#32
  | 37 => 0x3F0C26BE#32
  | 38 => 0xBF3DE8FB#32
  | 39 => 0x3F59D0D7#32
  | 40 => 0x3F1268C5#32
  | 41 => 0x3FE316D6#32
  | 42 => 0xBF7AEF50#32
  | 43 => 0xBDF75FC1#32
  | 44 => 0x3FD180E4#32
  | 45 => 0x3FD68916#32
  | 46 => 0x3FBD163B#32
  | 47 => 0x3FDB6D70#32
  | 48 => 0xBFD79FEA#32
  | 49 => 0xBEFF2CBA#32
  | 50 => 0x3FBCFFE6#32
  | 51 => 0xBF210648#32
  | 52 => 0x3FD2603A#32
  | 53 => 0x3E3A5F97#32
  | 54 => 0x3F60F0B3#32
  | 55 => 0xBF9940D8#32
  | 56 => 0xBE9EB453#32
  | 57 => 0xBF947212#32
  | 58 => 0xBE93F176#32
  | 59 => 0xBFF47FB8#32
  | 60 => 0x4007B56E#32
  | 61 => 0x40681000#32
  | 62 => 0x3F8B88D2#32
  | 63 => 0x3F9A4A9A#32
  | 64 => 0x3FD60984#32
  | 65 => 0x3E9B89C0#32
  | 66 => 0x3E86A939#32
  | 67 => 0x3F91C8EC#32
  | 68 => 0xBE9A800B#32
  | 69 => 0xBF4AA389#32
  | 70 => 0x3E7DB0BB#32
  | 71 => 0xBEAF5F24#32
  | 72 => 0x3F379E4C#32
  | 73 => 0x402BA10A#32
  | 74 => 0xBF9DF926#32
  | 75 => 0x3D02D5B7#32
  | 76 => 0x3E47F5A8#32
  | 77 => 0xBEC21EE1#32
  | 78 => 0xBEAF0FFD#32
  | 79 => 0x3FC1D288#32
  | 80 => 0x3FB4910C#32
  | 81 => 0xBEE215B0#32
  | 82 => 0x3E065787#32
  | 83 => 0x3FE240E0#32
  | 84 => 0x3EF15790#32
  | 85 => 0xBF134B56#32
  | 86 => 0x3FDFEB6A#32
  | 87 => 0x4006D5DD#32
  | 88 => 0x3FFBF4C0#32
  | 89 => 0x3EEE44C4#32
  | 90 => 0x3F9D2EB8#32
  | 91 => 0x3E1EFDDA#32
  | 92 => 0x3D1B7267#32
  | 93 => 0xBD44E3CE#32
  | 94 => 0xBF290675#32
  | 95 => 0x40044DDE#32
  | 96 => 0x3F9F1D03#32
  | 97 => 0x3FF40AD7#32
  | 98 => 0xC0021B7B#32
  | 99 => 0x4003EE4A#32
  | 100 => 0x3F4925BC#32
  | 101 => 0xBF65CB2A#32
  | 102 => 0xBFF0A1A0#32
  | 103 => 0x3E834831#32
  | 104 => 0x3F4CE686#32
  | 105 => 0x3FD07854#32
  | 106 => 0x3F243D99#32
  | 107 => 0x3DDAEE74#32
  | 108 => 0x402E1DE8#32
  | 109 => 0x400852D6#32
  | 110 => 0x3EE70A16#32
  | 111 => 0x3F590C5E#32
  | 112 => 0xBF79C14A#32
  | 113 => 0x3EA3CA1F#32
  | 114 => 0x3CC3511E#32
  | 115 => 0xBEF5DBCA#32
  | 116 => 0xBE79736B#32
  | 117 => 0x3F046AFB#32
  | 118 => 0x401B1F88#32
  | 119 => 0x3F9DD374#32
  | 120 => 0x3BE2613A#32
  | 121 => 0x3F0774BB#32
  | 122 => 0xBF592C4C#32
  | 123 => 0x3FAF40A0#32
  | 124 => 0x3F6CD5AD#32
  | 125 => 0x3FC1CD9E#32
  | 126 => 0x40083FB5#32
  | 127 => 0x4043DFE7#32
  | _ => 0#32

noncomputable abbrev lit0t0_667 (i : Nat) : BitVec 32 := match i % 128 with
  | 0 => 0x3F4898C2#32
  | 1 => 0x3F804C64#32
  | 2 => 0x3F9E6DE6#32
  | 3 => 0xBF4C97E2#32
  | 4 => 0xBF6E5DE3#32
  | 5 => 0x3F5F4272#32
  | 6 => 0x3FE56530#32
  | 7 => 0x3EE8CF44#32
  | 8 => 0xBE41CC70#32
  | 9 => 0x3EF5068C#32
  | 10 => 0xBEE8C3CD#32
  | 11 => 0x3F011CB3#32
  | 12 => 0x3F76A67E#32
  | 13 => 0x3F3198B8#32
  | 14 => 0x400222E5#32
  | 15 => 0xBE47D7CC#32
  | 16 => 0x3F7444B8#32
  | 17 => 0x3F412D30#32
  | 18 => 0x3EED4943#32
  | 19 => 0x3F867711#32
  | 20 => 0x3F36431A#32
  | 21 => 0xBF2E59A5#32
  | 22 => 0xBF436887#32
  | 23 => 0x402B0B28#32
  | 24 => 0xBFE138E0#32
  | 25 => 0xBF0F2A0D#32
  | 26 => 0x3FBE0927#32
  | 27 => 0xBEC428F5#32
  | 28 => 0x3FACE45E#32
  | 29 => 0x3B3ACA14#32
  | 30 => 0x3B515D86#32
  | 31 => 0x3F75C342#32
  | 32 => 0x3FC23986#32
  | 33 => 0xBD8B8D27#32
  | 34 => 0x3FE9A7A0#32
  | 35 => 0x3F4092CC#32
  | 36 => 0x3EE4048A#32
  | 37 => 0xBA8E1847#32
  | 38 => 0x3FB7AB87#32
  | 39 => 0x3FB6335B#32
  | 40 => 0x3F7801C6#32
  | 41 => 0x3ECD182C#32
  | 42 => 0x3F1C0E10#32
  | 43 => 0xBF863985#32
  | 44 => 0xBE3AD3CA#32
  | 45 => 0xBF31BBED#32
  | 46 => 0x3FB43326#32
  | 47 => 0x40B1262B#32
  | 48 => 0xBE024005#32
  | 49 => 0x3ED8E688#32
  | 50 => 0x3F957AD5#32
  | 51 => 0xBF0879BD#32
  | 52 => 0xBC240129#32
  | 53 => 0x3FB48AC6#32
  | 54 => 0xBE27D19E#32
  | 55 => 0xBEEC4050#32
  | 56 => 0x3F9FE28A#32
  | 57 => 0x3FA0D08A#32
  | 58 => 0xBF8AC43C#32
  | 59 => 0x3FB09459#32
  | 60 => 0x3F52205E#32
  | 61 => 0xBF38B40E#32
  | 62 => 0xBE4253AF#32
  | 63 => 0xBF90EB8B#32
  | 64 => 0x3E802780#32
  | 65 => 0x403E5517#32
  | 66 => 0xBE3071B2#32
  | 67 => 0x3DC8FB5A#32
  | 68 => 0xBF4CD0F6#32
  | 69 => 0x3FC237AF#32
  | 70 => 0xBEA8A3A1#32
  | 71 => 0x3F18E71F#32
  | 72 => 0x3EE401FD#32
  | 73 => 0xBFAD8B29#32
  | 74 => 0x3FC51435#32
  | 75 => 0x405166E8#32
  | 76 => 0xBF940FCD#32
  | 77 => 0x3FCAE2C8#32
  | 78 => 0x4030D3AD#32
  | 79 => 0x3F197017#32
  | 80 => 0xBF8BF81A#32
  | 81 => 0xBEF19F0E#32
  | 82 => 0x3F2EA66A#32
  | 83 => 0x3F2AF172#32
  | 84 => 0xBEBD7F53#32
  | 85 => 0x400265FE#32
  | 86 => 0xBF43F13E#32
  | 87 => 0x40326C45#32
  | 88 => 0x3DD441E4#32
  | 89 => 0xBF856E1C#32
  | 90 => 0x40440951#32
  | 91 => 0xBF392A9E#32
  | 92 => 0x3F38C3D9#32
  | 93 => 0xBEE3B829#32
  | 94 => 0x3F32673D#32
  | 95 => 0x3FE8ABCE#32
  | 96 => 0x3F8311DE#32
  | 97 => 0x3EF41328#32
  | 98 => 0xBF9FDC6A#32
  | 99 => 0x3EB62E2A#32
  | 100 => 0x3F187515#32
  | 101 => 0xBE31311E#32
  | 102 => 0xBE7386BA#32
  | 103 => 0x400E5404#32
  | 104 => 0xBF5E7136#32
  | 105 => 0x3FDBE03C#32
  | 106 => 0xBDEB4CC4#32
  | 107 => 0x403FCACF#32
  | 108 => 0x4026CB6A#32
  | 109 => 0x3E759D91#32
  | 110 => 0x3F3F98BA#32
  | 111 => 0x3D61C9C2#32
  | 112 => 0x3FC80C2C#32
  | 113 => 0xBF26C756#32
  | 114 => 0xBE95234D#32
  | 115 => 0xBE62FD62#32
  | 116 => 0x3EBC80B7#32
  | 117 => 0xBF2E3D30#32
  | 118 => 0xBEDBE4E0#32
  | 119 => 0x400B0C89#32
  | 120 => 0x3EF3CD65#32
  | 121 => 0x40A10471#32
  | 122 => 0x3F01C2B2#32
  | 123 => 0x3F0A275C#32
  | 124 => 0xBF50A578#32
  | 125 => 0x3F82DC81#32
  | 126 => 0x3F9B7A01#32
  | 127 => 0xBF55F39D#32
  | _ => 0#32

noncomputable abbrev lit0t0_668 (i : Nat) : BitVec 32 := match i % 128 with
  | 0 => 0x4001A9A9#32
  | 1 => 0xBF936C5D#32
  | 2 => 0x3F96AD96#32
  | 3 => 0x402978F4#32
  | 4 => 0xBE9072DD#32
  | 5 => 0x3F886C04#32
  | 6 => 0xBD93CCD1#32
  | 7 => 0x3E9C7ECF#32
  | 8 => 0x40454ECB#32
  | 9 => 0xBF28B4EB#32
  | 10 => 0xBF91C8DA#32
  | 11 => 0x3F8A6F80#32
  | 12 => 0xBEB55219#32
  | 13 => 0x3E029269#32
  | 14 => 0xBF8B0354#32
  | 15 => 0x404CC932#32
  | 16 => 0x3F5882E6#32
  | 17 => 0x3E3D3B85#32
  | 18 => 0x3F08E05E#32
  | 19 => 0x402C73AB#32
  | 20 => 0xBF621B02#32
  | 21 => 0xBEF460CA#32
  | 22 => 0x3E7D81D0#32
  | 23 => 0x3FB60A51#32
  | 24 => 0x3ED34F92#32
  | 25 => 0xBE0E8EC0#32
  | 26 => 0x3FA74760#32
  | 27 => 0x3F088A68#32
  | 28 => 0x3D1DA278#32
  | 29 => 0xBE5EF8F5#32
  | 30 => 0x3F258E9F#32
  | 31 => 0xBF15216E#32
  | 32 => 0x3FC22E75#32
  | 33 => 0x400573F0#32
  | 34 => 0x3FCA76B2#32
  | 35 => 0x3F33F8C8#32
  | 36 => 0x3F28A70B#32
  | 37 => 0x3F864A2E#32
  | 38 => 0x3FE911C6#32
  | 39 => 0x3F995D51#32
  | 40 => 0x3EF06B6A#32
  | 41 => 0x3F80905F#32
  | 42 => 0xBF991658#32
  | 43 => 0x3E6850DF#32
  | 44 => 0x3E93E4C0#32
  | 45 => 0x3E10A017#32
  | 46 => 0x3F5C805E#32
  | 47 => 0x3E87516D#32
  | 48 => 0xBEA38A11#32
  | 49 => 0xBF67CE47#32
  | 50 => 0xBF1EC5C9#32
  | 51 => 0x3FECE471#32
  | 52 => 0x3F9343A9#32
  | 53 => 0x3F2FC53A#32
  | 54 => 0xBF83F51A#32
  | 55 => 0x3EEDD311#32
  | 56 => 0xBED31EF6#32
  | 57 => 0xBF864678#32
  | 58 => 0x4044124B#32
  | 59 => 0x3F29D760#32
  | 60 => 0x3F0EC05A#32
  | 61 => 0xBE261450#32
  | 62 => 0x40022D11#32
  | 63 => 0x3FE0ECE6#32
  | 64 => 0x3F1D0EEC#32
  | 65 => 0xBF861F6A#32
  | 66 => 0x3FCF0336#32
  | 67 => 0xBF9A9DE2#32
  | 68 => 0xBF39CE08#32
  | 69 => 0xBF87DB06#32
  | 70 => 0x3F21CC80#32
  | 71 => 0x3EF96AB5#32
  | 72 => 0xBFA5EBDA#32
  | 73 => 0xBFD1FF20#32
  | 74 => 0x3E736C29#32
  | 75 => 0xBEB7F7CE#32
  | 76 => 0x400D3302#32
  | 77 => 0x3F3556DD#32
  | 78 => 0x3EB80F2F#32
  | 79 => 0x3C998E63#32
  | 80 => 0xBCE29E9B#32
  | 81 => 0x3F1400A8#32
  | 82 => 0x3F8CCB42#32
  | 83 => 0x4013F920#32
  | 84 => 0xBF865886#32
  | 85 => 0xBE9DC3A3#32
  | 86 => 0xBD10B898#32
  | 87 => 0xBF1A2416#32
  | 88 => 0x40224E5A#32
  | 89 => 0x3F4789AD#32
  | 90 => 0x3E08214E#32
  | 91 => 0x3F76EDF9#32
  | 92 => 0x402BF8F5#32
  | 93 => 0x3FD48B6E#32
  | 94 => 0x3D1BCA2D#32
  | 95 => 0x3F5F66F6#32
  | 96 => 0xBF888277#32
  | 97 => 0xBDDD1506#32
  | 98 => 0x3F7DD676#32
  | 99 => 0x3EBAE1B6#32
  | 100 => 0x3E8431D7#32
  | 101 => 0xBED60AEF#32
  | 102 => 0xBF811CCF#32
  | 103 => 0xBF7B8434#32
  | 104 => 0xBDBD7C6A#32
  | 105 => 0x3FF6FC19#32
  | 106 => 0x3F3E18C2#32
  | 107 => 0xBD922AF7#32
  | 108 => 0x3F32D1C5#32
  | 109 => 0x3E95D71F#32
  | 110 => 0x403126E9#32
  | 111 => 0x4044BAB7#32
  | 112 => 0x3F1A3D05#32
  | 113 => 0x406BF43B#32
  | 114 => 0x3F3EEE3F#32
  | 115 => 0xBE3B4B62#32
  | 116 => 0xBE9DDF14#32
  | 117 => 0xBEDB045A#32
  | 118 => 0x3EBD5ED7#32
  | 119 => 0xBF9EA84A#32
  | 120 => 0x40081788#32
  | 121 => 0xBD4B1B87#32
  | 122 => 0x3FE9942E#32
  | 123 => 0xBEC35BFB#32
  | 124 => 0x3F5F72A1#32
  | 125 => 0x3F0AE303#32
  | 126 => 0x3EE5C0AF#32
  | 127 => 0x3EF2469E#32
  | _ => 0#32

noncomputable abbrev lit0t0_669 (i : Nat) : BitVec 32 := match i % 128 with
  | 0 => 0x3FC1B7EC#32
  | 1 => 0x3DB45A4F#32
  | 2 => 0x3F1C800B#32
  | 3 => 0x3F01140F#32
  | 4 => 0x4017C98D#32
  | 5 => 0x3EACAA80#32
  | 6 => 0x3F8C9B90#32
  | 7 => 0x3F1178C8#32
  | 8 => 0x3F3CD9F7#32
  | 9 => 0xBF561EEB#32
  | 10 => 0x3FC4A456#32
  | 11 => 0x3FC7B12B#32
  | 12 => 0x3F9253DD#32
  | 13 => 0xBF8B1EC0#32
  | 14 => 0xBFA96705#32
  | 15 => 0x3E0F282B#32
  | 16 => 0x3F06AE0A#32
  | 17 => 0x3DD3F50C#32
  | 18 => 0x3F134D18#32
  | 19 => 0x40546511#32
  | 20 => 0x3F25F8BC#32
  | 21 => 0x3F9E8B3B#32
  | 22 => 0x3F90B623#32
  | 23 => 0xBF862B46#32
  | 24 => 0xBD066536#32
  | 25 => 0xBF5F61CC#32
  | 26 => 0x3EC65256#32
  | 27 => 0xBE2CC0EE#32
  | 28 => 0x3E5BAACC#32
  | 29 => 0x3F579BE4#32
  | 30 => 0xBE07FA47#32
  | 31 => 0x3DC42E08#32
  | 32 => 0x401CAD34#32
  | 33 => 0x3EC07D52#32
  | 34 => 0x3EDC6D71#32
  | 35 => 0xBEB5988B#32
  | 36 => 0x3F8D537A#32
  | 37 => 0x3FEA8CC0#32
  | 38 => 0x3FCA54A4#32
  | 39 => 0xBF7D08C8#32
  | 40 => 0x3E860E41#32
  | 41 => 0xBF6EFFC9#32
  | 42 => 0x3FA8A0EE#32
  | 43 => 0x3FEBE52A#32
  | 44 => 0x3E13EDAE#32
  | 45 => 0xBD55EDD9#32
  | 46 => 0x3EA1A084#32
  | 47 => 0xBE9AA9DB#32
  | 48 => 0xBF30D2CE#32
  | 49 => 0x3E1087FE#32
  | 50 => 0x3F16BE42#32
  | 51 => 0x408B2427#32
  | 52 => 0x3F0E5E52#32
  | 53 => 0x3EDA870B#32
  | 54 => 0x3FE4E5F5#32
  | 55 => 0x3EF45D79#32
  | 56 => 0x3F844C8D#32
  | 57 => 0xBF6EAE4B#32
  | 58 => 0x3FD74FAF#32
  | 59 => 0xBED98886#32
  | 60 => 0xBF9813F3#32
  | 61 => 0x3DE3AAA2#32
  | 62 => 0x3F064596#32
  | 63 => 0x3EFEEA2A#32
  | 64 => 0x3F93B496#32
  | 65 => 0x3DC9BE9B#32
  | 66 => 0x3FBFBE70#32
  | 67 => 0x4061C98B#32
  | 68 => 0xBD0B3C5F#32
  | 69 => 0x3F7AD396#32
  | 70 => 0xBF563B13#32
  | 71 => 0x3FFFAA90#32
  | 72 => 0x401FA202#32
  | 73 => 0x403F0785#32
  | 74 => 0x409426D7#32
  | 75 => 0x3E415F0D#32
  | 76 => 0x3DEEA191#32
  | 77 => 0x40325AF0#32
  | 78 => 0x3E801ECA#32
  | 79 => 0x3F2A4DA1#32
  | 80 => 0x3E9C0725#32
  | 81 => 0xBF02E63E#32
  | 82 => 0x4009E6B8#32
  | 83 => 0x3EEFBBDF#32
  | 84 => 0x3DFA83E6#32
  | 85 => 0x3EBB45F1#32
  | 86 => 0x3F797DA8#32
  | 87 => 0x3F278472#32
  | 88 => 0xBEA0D4E1#32
  | 89 => 0xBF833BA0#32
  | 90 => 0x3E4FC17A#32
  | 91 => 0x3E95A11E#32
  | 92 => 0xBE4BBA4E#32
  | 93 => 0xBE12CFA6#32
  | 94 => 0x3D9403AE#32
  | 95 => 0x3FB6AA7E#32
  | 96 => 0x3F3013C0#32
  | 97 => 0x3F568F34#32
  | 98 => 0x3CB16FA6#32
  | 99 => 0x3F1C98BD#32
  | 100 => 0x4035002C#32
  | 101 => 0x3F57E357#32
  | 102 => 0xBEFE31BF#32
  | 103 => 0xBE53ACDB#32
  | 104 => 0xBF58D058#32
  | 105 => 0x3F9196BC#32
  | 106 => 0xBED8EB24#32
  | 107 => 0x3F8ADCA8#32
  | 108 => 0x3F878477#32
  | 109 => 0xBFE1090D#32
  | 110 => 0x3F932546#32
  | 111 => 0xBF80B31A#32
  | 112 => 0x3FD14301#32
  | 113 => 0xBE0970CA#32
  | 114 => 0x3FB4B536#32
  | 115 => 0x3F81EAAC#32
  | 116 => 0x3CFCA52A#32
  | 117 => 0xBE9C860D#32
  | 118 => 0x402439A5#32
  | 119 => 0x406B5581#32
  | 120 => 0x4060D97B#32
  | 121 => 0xBFDA6937#32
  | 122 => 0xBF2F23E1#32
  | 123 => 0x3E0CC255#32
  | 124 => 0x3E77F817#32
  | 125 => 0x40514072#32
  | 126 => 0x403ADBAE#32
  | 127 => 0x3EE1DE65#32
  | _ => 0#32

noncomputable abbrev lit0t0_670 (i : Nat) : BitVec 32 := match i % 128 with
  | 0 => 0x3FD6A07B#32
  | 1 => 0xBE997E5F#32
  | 2 => 0x3CE9B30F#32
  | 3 => 0xBE480AEE#32
  | 4 => 0x4005E490#32
  | 5 => 0x401E3A38#32
  | 6 => 0x4012A2F9#32
  | 7 => 0x3FDDCBB3#32
  | 8 => 0xBF0D7BF0#32
  | 9 => 0xBEB31161#32
  | 10 => 0x4083506E#32
  | 11 => 0x3FDC76E0#32
  | 12 => 0x3EDEA7EE#32
  | 13 => 0xBDF0BE1B#32
  | 14 => 0xBFA952EC#32
  | 15 => 0x3F896750#32
  | 16 => 0xBF837E19#32
  | 17 => 0xBE652C23#32
  | 18 => 0xBE74402C#32
  | 19 => 0xBEA1570A#32
  | 20 => 0x3F0BB9C6#32
  | 21 => 0x3FE07DE0#32
  | 22 => 0x3F83FD67#32
  | 23 => 0xBFA3FF22#32
  | 24 => 0x3F259DEF#32
  | 25 => 0x3D7F5903#32
  | 26 => 0xBE0FE271#32
  | 27 => 0x3F5FC306#32
  | 28 => 0x3FFF9B77#32
  | 29 => 0x3F7F3606#32
  | 30 => 0xBF1655A1#32
  | 31 => 0xBF02D158#32
  | 32 => 0xBEDDBDC7#32
  | 33 => 0xBF02A88B#32
  | 34 => 0x3FAA6584#32
  | 35 => 0x3EDB61F0#32
  | 36 => 0x4016AA2C#32
  | 37 => 0x3F67EF39#32
  | 38 => 0xBC7005B6#32
  | 39 => 0x3DEE6EF0#32
  | 40 => 0x3FBD4B5F#32
  | 41 => 0xBED44375#32
  | 42 => 0xBF832E73#32
  | 43 => 0x3ED98F3A#32
  | 44 => 0x3F8BB918#32
  | 45 => 0xBF375270#32
  | 46 => 0x3DBF4553#32
  | 47 => 0xBE625B7F#32
  | 48 => 0xBEBAE042#32
  | 49 => 0x3F717FAF#32
  | 50 => 0x3F2A327F#32
  | 51 => 0x3F1EFA15#32
  | 52 => 0xBF66A0DA#32
  | 53 => 0xBFB059B8#32
  | 54 => 0x3F1BBD46#32
  | 55 => 0x3F42A8A4#32
  | 56 => 0x3F3A03D5#32
  | 57 => 0xBF5AE772#32
  | 58 => 0xBFAA4C5B#32
  | 59 => 0xBF92A0EF#32
  | 60 => 0xBF15AA67#32
  | 61 => 0x3F474928#32
  | 62 => 0x3FD99AE3#32
  | 63 => 0xBF31C493#32
  | 64 => 0x3D69C9BE#32
  | 65 => 0x3F3670FC#32
  | 66 => 0xBD06102B#32
  | 67 => 0x403EF44E#32
  | 68 => 0xBCBAFB4A#32
  | 69 => 0x3EF3B1B0#32
  | 70 => 0xBD3BEF6F#32
  | 71 => 0x40481D63#32
  | 72 => 0x3F8BAF0D#32
  | 73 => 0xBF1FE753#32
  | 74 => 0x3F16E9AB#32
  | 75 => 0xBBE1AD98#32
  | 76 => 0x3F553DB9#32
  | 77 => 0xBFC191B1#32
  | 78 => 0x406C0B30#32
  | 79 => 0x3F3672A7#32
  | 80 => 0x3DB274AC#32
  | 81 => 0xBF66A304#32
  | 82 => 0xBD9EB580#32
  | 83 => 0x408040AB#32
  | 84 => 0xBE78E1B7#32
  | 85 => 0x3FD51201#32
  | 86 => 0xBF89A46A#32
  | 87 => 0x40265831#32
  | 88 => 0x3F2EF254#32
  | 89 => 0x3F563267#32
  | 90 => 0xBF839CE6#32
  | 91 => 0xBDB33EB1#32
  | 92 => 0x3FFF680C#32
  | 93 => 0xBF933F9F#32
  | 94 => 0xBE96F359#32
  | 95 => 0x4018074D#32
  | 96 => 0x3F09EC69#32
  | 97 => 0xBD53CAA8#32
  | 98 => 0x4050D13D#32
  | 99 => 0x3F9E1788#32
  | 100 => 0x40042C4C#32
  | 101 => 0xBF03F9A8#32
  | 102 => 0xBF981D64#32
  | 103 => 0xBE680A72#32
  | 104 => 0xBD39B9D5#32
  | 105 => 0x3F0484F6#32
  | 106 => 0xBFA0B74D#32
  | 107 => 0xBE309F84#32
  | 108 => 0x402D8C41#32
  | 109 => 0xBE544C2F#32
  | 110 => 0x3F305B1C#32
  | 111 => 0x3E9DF195#32
  | 112 => 0x3F696F82#32
  | 113 => 0x4063F388#32
  | 114 => 0x3E8AF194#32
  | 115 => 0x3F674D08#32
  | 116 => 0x40A79934#32
  | 117 => 0x3F10B0F2#32
  | 118 => 0x40047502#32
  | 119 => 0xBE562B59#32
  | 120 => 0x3DFEAB01#32
  | 121 => 0x3F8C8284#32
  | 122 => 0x3E3E128F#32
  | 123 => 0x3FEB3CB9#32
  | 124 => 0xBECB017E#32
  | 125 => 0x3E960A70#32
  | 126 => 0x401B20A4#32
  | 127 => 0x3F8471DA#32
  | _ => 0#32

noncomputable abbrev lit0t0_671 (i : Nat) : BitVec 32 := match i % 128 with
  | 0 => 0x3FA4400E#32
  | 1 => 0x3F73F6D8#32
  | 2 => 0xBEAC1B4A#32
  | 3 => 0xBF0E2040#32
  | 4 => 0xBF6583C9#32
  | 5 => 0xBF18900E#32
  | 6 => 0x3F19D1C2#32
  | 7 => 0x401AB945#32
  | 8 => 0x404F8044#32
  | 9 => 0x3F8A7C80#32
  | 10 => 0x3FE21458#32
  | 11 => 0x3F92C7CE#32
  | 12 => 0xBF82D1C4#32
  | 13 => 0x3FE1B780#32
  | 14 => 0x3E047170#32
  | 15 => 0x3FFA786C#32
  | 16 => 0x4000411C#32
  | 17 => 0xBF023824#32
  | 18 => 0x407CBFC8#32
  | 19 => 0xBE1B7569#32
  | 20 => 0x4076F518#32
  | 21 => 0xBF35EA97#32
  | 22 => 0x3FCF5E70#32
  | 23 => 0xBEB44CE4#32
  | 24 => 0x402715D5#32
  | 25 => 0x3FEC824C#32
  | 26 => 0x3F87EDF0#32
  | 27 => 0xBE83BB47#32
  | 28 => 0xBF0AD9B8#32
  | 29 => 0xC00D6154#32
  | 30 => 0xBF38333E#32
  | 31 => 0x3FD618ED#32
  | 32 => 0xBF1793B1#32
  | 33 => 0xBF15CABA#32
  | 34 => 0x3FAA902D#32
  | 35 => 0x3F141B62#32
  | 36 => 0x3E9EFBA8#32
  | 37 => 0xBE80426A#32
  | 38 => 0xBF3F547D#32
  | 39 => 0x3EC17CCA#32
  | 40 => 0xBEC60912#32
  | 41 => 0xBE63C287#32
  | 42 => 0x3EC36F96#32
  | 43 => 0x3FF47689#32
  | 44 => 0x3FFC87AC#32
  | 45 => 0x3F993A40#32
  | 46 => 0x3F3AC45E#32
  | 47 => 0x4007EB15#32
  | 48 => 0xBFD57DD9#32
  | 49 => 0xBFA2BDE2#32
  | 50 => 0x3EE23E1D#32
  | 51 => 0x3F91A302#32
  | 52 => 0x3FD04E2C#32
  | 53 => 0x3F8AE400#32
  | 54 => 0xBE6D6B52#32
  | 55 => 0x3FBD088F#32
  | 56 => 0xBF32D431#32
  | 57 => 0xBF8E33B2#32
  | 58 => 0xBBFA7060#32
  | 59 => 0xBEA5AA28#32
  | 60 => 0x3EE2BC9E#32
  | 61 => 0xBEF69A78#32
  | 62 => 0x3F8AF6B9#32
  | 63 => 0xBFA83BED#32
  | 64 => 0x40541660#32
  | 65 => 0x3F8B5CAC#32
  | 66 => 0x404B7905#32
  | 67 => 0xBEA570BE#32
  | 68 => 0xBF071589#32
  | 69 => 0x3DEB581F#32
  | 70 => 0x3E184292#32
  | 71 => 0xBE80654E#32
  | 72 => 0xBF82BEE0#32
  | 73 => 0x3F4B1CFC#32
  | 74 => 0x3EA1B50A#32
  | 75 => 0x3E6EC720#32
  | 76 => 0x407AB4BF#32
  | 77 => 0x4074DCA5#32
  | 78 => 0x3F52DE8A#32
  | 79 => 0x3EC1F51B#32
  | 80 => 0xBC1C93DB#32
  | 81 => 0xBF79ED09#32
  | 82 => 0xBEE273A3#32
  | 83 => 0x401BC004#32
  | 84 => 0x3F3BE4A2#32
  | 85 => 0x3EB0AFFE#32
  | 86 => 0x3E1FA015#32
  | 87 => 0xBD847CD5#32
  | 88 => 0xBE70E297#32
  | 89 => 0x402DA83E#32
  | 90 => 0x3F9352D8#32
  | 91 => 0x3FC342D9#32
  | 92 => 0x3BE28A02#32
  | 93 => 0x4095F435#32
  | 94 => 0x3FEE331D#32
  | 95 => 0x401A2A0C#32
  | 96 => 0x400CE8B9#32
  | 97 => 0x3F9C6FA5#32
  | 98 => 0x3F28D321#32
  | 99 => 0x3DEF165C#32
  | 100 => 0x3F136485#32
  | 101 => 0x400411FB#32
  | 102 => 0x3E449C48#32
  | 103 => 0x3F3CE10E#32
  | 104 => 0x3DD86C28#32
  | 105 => 0x3E81348C#32
  | 106 => 0xBFA8B82D#32
  | 107 => 0x3F422BD4#32
  | 108 => 0xBEE03C7C#32
  | 109 => 0x3C870DAE#32
  | 110 => 0x4003A7DA#32
  | 111 => 0xBB26FD7E#32
  | 112 => 0x3F13DDD0#32
  | 113 => 0x401859DC#32
  | 114 => 0x3E4B5813#32
  | 115 => 0x3F4BF93A#32
  | 116 => 0xBE837E3E#32
  | 117 => 0x3F147818#32
  | 118 => 0xBF09D606#32
  | 119 => 0x3DBA6958#32
  | 120 => 0xBF9AD167#32
  | 121 => 0xBDB61BB6#32
  | 122 => 0x3FB76F6A#32
  | 123 => 0x3F6DDDBF#32
  | 124 => 0xBF6B9E41#32
  | 125 => 0xBDDE5480#32
  | 126 => 0xBF8E0C40#32
  | 127 => 0xBE37FD9F#32
  | _ => 0#32

noncomputable abbrev lit0t0_672 (i : Nat) : BitVec 32 := match i % 128 with
  | 0 => 0x3FE5F77A#32
  | 1 => 0xBF454390#32
  | 2 => 0x3FA4E40D#32
  | 3 => 0x3E3D48E6#32
  | 4 => 0x3D987D0B#32
  | 5 => 0xBDB9FDCD#32
  | 6 => 0x406E755A#32
  | 7 => 0x4016D530#32
  | 8 => 0x3F3CC718#32
  | 9 => 0x3FCA4830#32
  | 10 => 0xBF981F9C#32
  | 11 => 0x3F97BF62#32
  | 12 => 0xBFC20ACC#32
  | 13 => 0xBF23103C#32
  | 14 => 0x3F82AEB0#32
  | 15 => 0x3F990585#32
  | 16 => 0x3F519252#32
  | 17 => 0x401C9F4A#32
  | 18 => 0x40174E22#32
  | 19 => 0xBEA9EB4F#32
  | 20 => 0xBF9098E3#32
  | 21 => 0x3F4D3662#32
  | 22 => 0x3A6BF32D#32
  | 23 => 0x4047BF3C#32
  | 24 => 0x3FEA3089#32
  | 25 => 0x4089BB6B#32
  | 26 => 0x3E7AC7D4#32
  | 27 => 0x3F8CA141#32
  | 28 => 0x3FAF344B#32
  | 29 => 0x3FB17CEB#32
  | 30 => 0xBED40B2E#32
  | 31 => 0x3E64C39A#32
  | 32 => 0xBE3E3ADD#32
  | 33 => 0x3F1413BF#32
  | 34 => 0x3F59DBBA#32
  | 35 => 0xBF6243DF#32
  | 36 => 0xBED86B6B#32
  | 37 => 0xBEBBE0B2#32
  | 38 => 0xBF36F6FF#32
  | 39 => 0x3F60A4EC#32
  | 40 => 0xBBCC8643#32
  | 41 => 0xBFAD4442#32
  | 42 => 0x3EFD763A#32
  | 43 => 0x3F2E8585#32
  | 44 => 0xBF31E371#32
  | 45 => 0x3E783F68#32
  | 46 => 0x3F163E17#32
  | 47 => 0x3EF40468#32
  | 48 => 0x3E66D959#32
  | 49 => 0x404744DD#32
  | 50 => 0x3FBBD7A1#32
  | 51 => 0x3F71D15F#32
  | 52 => 0x40506BD0#32
  | 53 => 0xBE8679AE#32
  | 54 => 0xBF98693C#32
  | 55 => 0x404E0696#32
  | 56 => 0x3FDFE8A9#32
  | 57 => 0x3D719011#32
  | 58 => 0x3EB979FC#32
  | 59 => 0x3FF8A29C#32
  | 60 => 0x3F5B961B#32
  | 61 => 0xBD93DF04#32
  | 62 => 0x3E826024#32
  | 63 => 0x400D48AA#32
  | 64 => 0xBF03E0D0#32
  | 65 => 0xBEACC02F#32
  | 66 => 0xBF6F7516#32
  | 67 => 0xBF0F553C#32
  | 68 => 0x4042DB4C#32
  | 69 => 0x3FD38223#32
  | 70 => 0x3F08067C#32
  | 71 => 0xBF8DAFE4#32
  | 72 => 0x3FE927F0#32
  | 73 => 0xBF1134E1#32
  | 74 => 0x3FB957B8#32
  | 75 => 0xBEEC7B22#32
  | 76 => 0x4049F505#32
  | 77 => 0x3F49A031#32
  | 78 => 0x405A8A46#32
  | 79 => 0x3ED1371E#32
  | 80 => 0x3F0F923D#32
  | 81 => 0x3F0D0742#32
  | 82 => 0x3DADF30A#32
  | 83 => 0x3F96634A#32
  | 84 => 0x40469DE3#32
  | 85 => 0xBE81A7E8#32
  | 86 => 0xBFBD567D#32
  | 87 => 0x402E5337#32
  | 88 => 0x3F15F6A5#32
  | 89 => 0xBEB861C8#32
  | 90 => 0x3E30442F#32
  | 91 => 0x3ED722F5#32
  | 92 => 0x3F3A5E87#32
  | 93 => 0x3EF1D908#32
  | 94 => 0x3DEE6BB5#32
  | 95 => 0xBF8A11F8#32
  | 96 => 0x3FC44BFB#32
  | 97 => 0xBE079EB4#32
  | 98 => 0xBF806A53#32
  | 99 => 0x3F713A5E#32
  | 100 => 0xBECA8E95#32
  | 101 => 0x3F1ED055#32
  | 102 => 0xBD8C8B0E#32
  | 103 => 0x3D966600#32
  | 104 => 0x3F7C848C#32
  | 105 => 0xBF81B542#32
  | 106 => 0x3FA6FE1C#32
  | 107 => 0x406043A1#32
  | 108 => 0xBE952461#32
  | 109 => 0xBC8A3D38#32
  | 110 => 0xBF910F64#32
  | 111 => 0x3F263A7C#32
  | 112 => 0xBFBDEB62#32
  | 113 => 0x3E89E3BF#32
  | 114 => 0xBE9C229F#32
  | 115 => 0x3FC1C7EE#32
  | 116 => 0x3F28F4AD#32
  | 117 => 0xBF72508A#32
  | 118 => 0xBED7BE58#32
  | 119 => 0x3E58CEC1#32
  | 120 => 0x3E85C3B5#32
  | 121 => 0x3DCD4BCD#32
  | 122 => 0x4005CCE4#32
  | 123 => 0x3E93F126#32
  | 124 => 0xBEB5230D#32
  | 125 => 0xBE72E61A#32
  | 126 => 0x3F960C29#32
  | 127 => 0xBF91B107#32
  | _ => 0#32

noncomputable abbrev lit0t0_673 (i : Nat) : BitVec 32 := match i % 128 with
  | 0 => 0x400E9BCA#32
  | 1 => 0x3FA18BDE#32
  | 2 => 0x40194A2A#32
  | 3 => 0xBE05441F#32
  | 4 => 0xBF65478E#32
  | 5 => 0xBFEBD22E#32
  | 6 => 0xBF977E35#32
  | 7 => 0x3FCF8925#32
  | 8 => 0x3EE06A67#32
  | 9 => 0x3F89DCC2#32
  | 10 => 0x4064820B#32
  | 11 => 0x401F4870#32
  | 12 => 0x3EB04076#32
  | 13 => 0xBF987495#32
  | 14 => 0x3E5C65EA#32
  | 15 => 0xBF4A0034#32
  | 16 => 0x3FCDC162#32
  | 17 => 0x3EC24AD4#32
  | 18 => 0x3EE606E4#32
  | 19 => 0x3FFB66AF#32
  | 20 => 0x3F0D4E1E#32
  | 21 => 0x3F4C0BAC#32
  | 22 => 0x3FF3E85C#32
  | 23 => 0xBF132F07#32
  | 24 => 0xBF2856DE#32
  | 25 => 0x3F860D10#32
  | 26 => 0x3FE67CD8#32
  | 27 => 0xBE50ABFE#32
  | 28 => 0x40004C2B#32
  | 29 => 0x3E0DD164#32
  | 30 => 0xBF431B39#32
  | 31 => 0xBEE2B649#32
  | 32 => 0xBF33B87E#32
  | 33 => 0x3E5AB4F0#32
  | 34 => 0x3F6CCE68#32
  | 35 => 0xBF8574CE#32
  | 36 => 0x3F730953#32
  | 37 => 0xBD167ADF#32
  | 38 => 0x3D2E46AF#32
  | 39 => 0x3EAA4F13#32
  | 40 => 0xBF8D430F#32
  | 41 => 0x3EC4F4BE#32
  | 42 => 0xBE8F7689#32
  | 43 => 0x40865C43#32
  | 44 => 0x4033C5A4#32
  | 45 => 0x3E03F8CC#32
  | 46 => 0xBF9AA108#32
  | 47 => 0xBEF4E378#32
  | 48 => 0x3FCD84B2#32
  | 49 => 0x406E90B2#32
  | 50 => 0x400E04D5#32
  | 51 => 0x3F955163#32
  | 52 => 0x3F342381#32
  | 53 => 0x3EAABA09#32
  | 54 => 0x3FB03E61#32
  | 55 => 0x3F4E16C3#32
  | 56 => 0xBDAD9B69#32
  | 57 => 0x3EC1794E#32
  | 58 => 0xBF101428#32
  | 59 => 0xBEAACD21#32
  | 60 => 0xBE240A99#32
  | 61 => 0xBF0D3384#32
  | 62 => 0x3DADAAC0#32
  | 63 => 0x3BC936D4#32
  | 64 => 0xBF093DA6#32
  | 65 => 0x3E4AAB35#32
  | 66 => 0x3EE6E29E#32
  | 67 => 0x40C2F2A2#32
  | 68 => 0x3FF3278D#32
  | 69 => 0x3D991B4C#32
  | 70 => 0xBF611D67#32
  | 71 => 0x3F821A54#32
  | 72 => 0x3EF03274#32
  | 73 => 0x400FED6B#32
  | 74 => 0x3F3E2B26#32
  | 75 => 0x3E70CFFE#32
  | 76 => 0x3F3BD403#32
  | 77 => 0x3F9B7578#32
  | 78 => 0x3E17498B#32
  | 79 => 0x3F4A68AC#32
  | 80 => 0x3F01259F#32
  | 81 => 0x3FEC0C76#32
  | 82 => 0xBDF95094#32
  | 83 => 0x40D6C4E7#32
  | 84 => 0x3F6E59D4#32
  | 85 => 0xBF5BDB9A#32
  | 86 => 0x4031DA29#32
  | 87 => 0xBF0181D6#32
  | 88 => 0xBEDA5C02#32
  | 89 => 0x3CA3A529#32
  | 90 => 0xBFA1C8E0#32
  | 91 => 0x3FD0016E#32
  | 92 => 0x3F230465#32
  | 93 => 0x3F3B8581#32
  | 94 => 0xBF1807DE#32
  | 95 => 0x3E95068E#32
  | 96 => 0x3EBB5FD1#32
  | 97 => 0x40074308#32
  | 98 => 0xBC814096#32
  | 99 => 0x3DCEDB27#32
  | 100 => 0x40223686#32
  | 101 => 0xBF550DE2#32
  | 102 => 0x3FEBAF55#32
  | 103 => 0x3FC67F29#32
  | 104 => 0xBE83DD03#32
  | 105 => 0x3FAE53E0#32
  | 106 => 0x3EFA759C#32
  | 107 => 0x4072ADA5#32
  | 108 => 0xBE0ECA81#32
  | 109 => 0xBEF24240#32
  | 110 => 0x3F28AA3D#32
  | 111 => 0xBFE1D864#32
  | 112 => 0xBF2BD4F7#32
  | 113 => 0xBEC190CC#32
  | 114 => 0x3D1D64E5#32
  | 115 => 0xBF70A9BC#32
  | 116 => 0x400AA4CF#32
  | 117 => 0x3DFBC6CA#32
  | 118 => 0xBF2EA636#32
  | 119 => 0x40056CCE#32
  | 120 => 0xBCD4D0AB#32
  | 121 => 0xBE8FC985#32
  | 122 => 0x3F3AC740#32
  | 123 => 0x3D188CDB#32
  | 124 => 0xBEA69B04#32
  | 125 => 0x3EF0B511#32
  | 126 => 0xBEF1AA30#32
  | 127 => 0xBF483C88#32
  | _ => 0#32

noncomputable abbrev lit0t0_674 (i : Nat) : BitVec 32 := match i % 128 with
  | 0 => 0xBF612E82#32
  | 1 => 0x40350C56#32
  | 2 => 0xBF2F08AE#32
  | 3 => 0x3FB4C8B5#32
  | 4 => 0xBF1242E7#32
  | 5 => 0xBF8E77EB#32
  | 6 => 0xBF7C9339#32
  | 7 => 0x3F5266D8#32
  | 8 => 0xBE3D5D7A#32
  | 9 => 0xBE61E79A#32
  | 10 => 0x3F26AE38#32
  | 11 => 0x3FF7D7D3#32
  | 12 => 0xBDD26B59#32
  | 13 => 0x3F8211E2#32
  | 14 => 0x40671FF2#32
  | 15 => 0x3E9751B3#32
  | 16 => 0x3E35E101#32
  | 17 => 0xBD42DD16#32
  | 18 => 0x3F58EA64#32
  | 19 => 0x3F4463B5#32
  | 20 => 0x3E243A57#32
  | 21 => 0x3EE40238#32
  | 22 => 0xBE8133C1#32
  | 23 => 0x4002B011#32
  | 24 => 0xBF40871C#32
  | 25 => 0x3F1BD603#32
  | 26 => 0xBF0CB124#32
  | 27 => 0x4007D773#32
  | 28 => 0xBF13B965#32
  | 29 => 0x3F1218E8#32
  | 30 => 0x3E9C76CA#32
  | 31 => 0xBED098F5#32
  | 32 => 0x3F735A1E#32
  | 33 => 0xBF082FEE#32
  | 34 => 0x3FA838A4#32
  | 35 => 0x3FE1E1F4#32
  | 36 => 0x3F9480CA#32
  | 37 => 0xBE83E8BA#32
  | 38 => 0x3E50AFE9#32
  | 39 => 0x3FB1B61C#32
  | 40 => 0x3ECF8421#32
  | 41 => 0x3F1B3FAF#32
  | 42 => 0x3F3C68AA#32
  | 43 => 0xBF73B7A6#32
  | 44 => 0x40AC36E0#32
  | 45 => 0x400DEC08#32
  | 46 => 0x3E610A08#32
  | 47 => 0xBEB576CB#32
  | 48 => 0x3DCA44FA#32
  | 49 => 0xBF4EDF48#32
  | 50 => 0x3F5CAA5A#32
  | 51 => 0xBFACDC18#32
  | 52 => 0x40585EC3#32
  | 53 => 0xBF4F69BB#32
  | 54 => 0x3F81E94E#32
  | 55 => 0xBF17ED17#32
  | 56 => 0x3FCF7F76#32
  | 57 => 0xBF09C774#32
  | 58 => 0x3F14E38F#32
  | 59 => 0x3EE3ECFA#32
  | 60 => 0xBE35D5E5#32
  | 61 => 0x3F845E9C#32
  | 62 => 0x3FF2E82C#32
  | 63 => 0x3FA37163#32
  | 64 => 0xBEE3F956#32
  | 65 => 0xBDC7EE66#32
  | 66 => 0x3FD1DE12#32
  | 67 => 0xBF2120F2#32
  | 68 => 0x3F35BA1E#32
  | 69 => 0xBE7DD1D6#32
  | 70 => 0xBE55D998#32
  | 71 => 0xBF5B52ED#32
  | 72 => 0x3FF7FF04#32
  | 73 => 0xBEA5513A#32
  | 74 => 0xBFAE6B5D#32
  | 75 => 0xBF8CBA5F#32
  | 76 => 0x3FAAB9AE#32
  | 77 => 0x4036AA8C#32
  | 78 => 0xBE34E4BF#32
  | 79 => 0x3FDA65FC#32
  | 80 => 0x3FE4DCF5#32
  | 81 => 0xBE7069A2#32
  | 82 => 0x40160D09#32
  | 83 => 0x3F780A5A#32
  | 84 => 0xBF3D92C7#32
  | 85 => 0x3CD457DA#32
  | 86 => 0xBF35E072#32
  | 87 => 0x3E88FB4B#32
  | 88 => 0x3FEEB82D#32
  | 89 => 0x40842D55#32
  | 90 => 0x3FAF3742#32
  | 91 => 0x404A2B0E#32
  | 92 => 0x3F073AB0#32
  | 93 => 0x3F871ECA#32
  | 94 => 0x40856C40#32
  | 95 => 0x3F88EF3A#32
  | 96 => 0x4004FED7#32
  | 97 => 0x3FA78543#32
  | 98 => 0xBFACE6B5#32
  | 99 => 0x3F0FEF68#32
  | 100 => 0x3F71694B#32
  | 101 => 0x3F30C1A5#32
  | 102 => 0xBF5631E9#32
  | 103 => 0x3E3ED098#32
  | 104 => 0x3E7C21FB#32
  | 105 => 0xBF6994A4#32
  | 106 => 0xBFD6C9FA#32
  | 107 => 0xBF3BB2F4#32
  | 108 => 0x3F008B1C#32
  | 109 => 0x3F38E7E6#32
  | 110 => 0x400AC26A#32
  | 111 => 0x3F9A1A14#32
  | 112 => 0x3F7D259C#32
  | 113 => 0x3FF90C24#32
  | 114 => 0xBF5AF89D#32
  | 115 => 0xBF1F7E9C#32
  | 116 => 0x3FA7858B#32
  | 117 => 0x3FA09FF8#32
  | 118 => 0x3CBA5981#32
  | 119 => 0x401B769D#32
  | 120 => 0x3EF0934E#32
  | 121 => 0x3F47C4E4#32
  | 122 => 0xBEC364D7#32
  | 123 => 0x3E6707F6#32
  | 124 => 0x3F80CFAE#32
  | 125 => 0x402C4002#32
  | 126 => 0x3FACFDDF#32
  | 127 => 0x400A20A8#32
  | _ => 0#32

noncomputable abbrev lit0t0_675 (i : Nat) : BitVec 32 := match i % 128 with
  | 0 => 0x3F54C1A2#32
  | 1 => 0x3FAF8AF3#32
  | 2 => 0x403ACCC9#32
  | 3 => 0x3FE608CD#32
  | 4 => 0xBE34FABF#32
  | 5 => 0xBF41974D#32
  | 6 => 0x3F4CF1D6#32
  | 7 => 0x3F438838#32
  | 8 => 0x3F1589C9#32
  | 9 => 0xBEF38153#32
  | 10 => 0x3F75AA6C#32
  | 11 => 0x3F20B9A9#32
  | 12 => 0x400AFF0C#32
  | 13 => 0x40161D23#32
  | 14 => 0x40A96D84#32
  | 15 => 0x4054C5C9#32
  | 16 => 0x3EB08119#32
  | 17 => 0xBFA7B9BC#32
  | 18 => 0x3EE6C124#32
  | 19 => 0x3F4C9AE2#32
  | 20 => 0xBF3CEC53#32
  | 21 => 0xBED0DF27#32
  | 22 => 0x404A91D9#32
  | 23 => 0xBE016B7F#32
  | 24 => 0x3F68174F#32
  | 25 => 0xBF52BDE4#32
  | 26 => 0xBF08A880#32
  | 27 => 0x3F8942BD#32
  | 28 => 0x3FC3277E#32
  | 29 => 0x3F15F526#32
  | 30 => 0xBEE8F202#32
  | 31 => 0x3FDC6724#32
  | 32 => 0x3FCB1062#32
  | 33 => 0x3EC7ABE2#32
  | 34 => 0x3F201982#32
  | 35 => 0xBE9608D4#32
  | 36 => 0xBF8702B5#32
  | 37 => 0x3F664DEA#32
  | 38 => 0xBF3C721F#32
  | 39 => 0x3E075D4C#32
  | 40 => 0x3F97D3F7#32
  | 41 => 0x3F626C10#32
  | 42 => 0x3E58501E#32
  | 43 => 0xBE61F160#32
  | 44 => 0xBF0C437B#32
  | 45 => 0x3F7095DD#32
  | 46 => 0x3F541C6C#32
  | 47 => 0x3F1370A3#32
  | 48 => 0xBF3BA18F#32
  | 49 => 0xBF269A3A#32
  | 50 => 0xBF7C7E8A#32
  | 51 => 0x3E587E58#32
  | 52 => 0xBEFFEF0A#32
  | 53 => 0x401FBAB2#32
  | 54 => 0x3D65E4E2#32
  | 55 => 0xBD75FC2D#32
  | 56 => 0xBF39A61A#32
  | 57 => 0x40D41D22#32
  | 58 => 0xBF54CCCD#32
  | 59 => 0x3FC014F1#32
  | 60 => 0x3F5BC2D2#32
  | 61 => 0x3D43592C#32
  | 62 => 0xBFBF2BB7#32
  | 63 => 0x3E100B0A#32
  | 64 => 0xBF011697#32
  | 65 => 0x40B0495B#32
  | 66 => 0x3ECDC4B7#32
  | 67 => 0x3E8A9497#32
  | 68 => 0xBE1234EB#32
  | 69 => 0xBFA12B6E#32
  | 70 => 0xBD83D3CA#32
  | 71 => 0xBF3DA996#32
  | 72 => 0x40563AFA#32
  | 73 => 0x3F8BD984#32
  | 74 => 0xBFA98754#32
  | 75 => 0x3FC476FA#32
  | 76 => 0x3F2ECB63#32
  | 77 => 0xBF3E4F32#32
  | 78 => 0x3FB760F9#32
  | 79 => 0x4051494E#32
  | 80 => 0x3F151C6C#32
  | 81 => 0xBE95F440#32
  | 82 => 0xBEDC29A8#32
  | 83 => 0x3E27B18D#32
  | 84 => 0x3FC2D358#32
  | 85 => 0x3D78A234#32
  | 86 => 0xBF82B337#32
  | 87 => 0xBECC3232#32
  | 88 => 0x3FE99922#32
  | 89 => 0x3F584E19#32
  | 90 => 0x3D441C68#32
  | 91 => 0xBED7B2C5#32
  | 92 => 0x3F48C055#32
  | 93 => 0x3D84DE56#32
  | 94 => 0xC0026876#32
  | 95 => 0xBF7AB29F#32
  | 96 => 0x3FE73418#32
  | 97 => 0x3F835308#32
  | 98 => 0xBF839422#32
  | 99 => 0xBFFE70F3#32
  | 100 => 0xBD1E1471#32
  | 101 => 0x3FDA3ECA#32
  | 102 => 0x3EA629BA#32
  | 103 => 0x3EDF8CA0#32
  | 104 => 0x3FC2C083#32
  | 105 => 0x3FB2DC37#32
  | 106 => 0x3F121593#32
  | 107 => 0x3F46F2D1#32
  | 108 => 0xBF2172C7#32
  | 109 => 0x402EBAA7#32
  | 110 => 0x3ED0427B#32
  | 111 => 0xBF582169#32
  | 112 => 0x3EA19EA7#32
  | 113 => 0x3FCDC52C#32
  | 114 => 0x3DA70BCF#32
  | 115 => 0xBFA011BF#32
  | 116 => 0xBE727B18#32
  | 117 => 0xBF055629#32
  | 118 => 0xBED3EBA1#32
  | 119 => 0x3F13AA0B#32
  | 120 => 0x3F1FB2D8#32
  | 121 => 0xBE5C9E06#32
  | 122 => 0x3E917B7B#32
  | 123 => 0x3E9B8EB6#32
  | 124 => 0x3D96E9D1#32
  | 125 => 0x3F74ADA2#32
  | 126 => 0xBF412F28#32
  | 127 => 0x3EFF3988#32
  | _ => 0#32

noncomputable abbrev lit0t0_676 (i : Nat) : BitVec 32 := match i % 128 with
  | 0 => 0xBF5B748B#32
  | 1 => 0xBEB3D8B4#32
  | 2 => 0xBEC1DCE1#32
  | 3 => 0xBE909B8F#32
  | 4 => 0xBFA7B571#32
  | 5 => 0x3F3D74D8#32
  | 6 => 0x3DBFBAB6#32
  | 7 => 0xBF60DB80#32
  | 8 => 0x3FCDADFA#32
  | 9 => 0x3F87C84B#32
  | 10 => 0xBF954B13#32
  | 11 => 0x3FD8174A#32
  | 12 => 0x3E3016DD#32
  | 13 => 0x4050473B#32
  | 14 => 0xBF8A54A9#32
  | 15 => 0x3F913DF5#32
  | 16 => 0xBFC76C80#32
  | 17 => 0x3F0984CC#32
  | 18 => 0xBF2B9850#32
  | 19 => 0x3E9AFE51#32
  | 20 => 0x3F7316C2#32
  | 21 => 0xBE3C8C40#32
  | 22 => 0x3EE87658#32
  | 23 => 0x3FCDBA4A#32
  | 24 => 0x3FD28D90#32
  | 25 => 0xBE90C49E#32
  | 26 => 0x40095E39#32
  | 27 => 0x3F07A9E0#32
  | 28 => 0x3CABA4A2#32
  | 29 => 0x4091C6F8#32
  | 30 => 0x3FA106D1#32
  | 31 => 0xBF2741A1#32
  | 32 => 0x3FBDD456#32
  | 33 => 0x3F906F41#32
  | 34 => 0x3E928C5D#32
  | 35 => 0xBF986AEC#32
  | 36 => 0x405D48B9#32
  | 37 => 0xBF76F10F#32
  | 38 => 0x3FAB951E#32
  | 39 => 0x3F83D869#32
  | 40 => 0x40916A54#32
  | 41 => 0x3F80A2A2#32
  | 42 => 0x3FA77FB2#32
  | 43 => 0xBE169606#32
  | 44 => 0xBF645D7B#32
  | 45 => 0xBEDBDAFD#32
  | 46 => 0x3E64FD97#32
  | 47 => 0xBFE1FC89#32
  | 48 => 0xBE74888A#32
  | 49 => 0x3E11090E#32
  | 50 => 0x3E754CE3#32
  | 51 => 0x3DB9009A#32
  | 52 => 0xBE8037B0#32
  | 53 => 0x3EE2439F#32
  | 54 => 0x3EA02632#32
  | 55 => 0x3FB32F28#32
  | 56 => 0x3F6E3961#32
  | 57 => 0x403E00AA#32
  | 58 => 0xBEFD070C#32
  | 59 => 0x3D5D80A6#32
  | 60 => 0x3F63CEB7#32
  | 61 => 0x3F68D53F#32
  | 62 => 0x3F092148#32
  | 63 => 0xBE1946CC#32
  | 64 => 0xBF638628#32
  | 65 => 0x3FA08AA3#32
  | 66 => 0x3F30D540#32
  | 67 => 0xBE51003F#32
  | 68 => 0x3FC71000#32
  | 69 => 0x3F099D6D#32
  | 70 => 0xBF857624#32
  | 71 => 0x4025F9B8#32
  | 72 => 0xBE30F443#32
  | 73 => 0x3EFDFA0D#32
  | 74 => 0x3B89D51B#32
  | 75 => 0x3FC47ECD#32
  | 76 => 0x4019AFAD#32
  | 77 => 0x3F904428#32
  | 78 => 0x3FB3DC64#32
  | 79 => 0xBE12719F#32
  | 80 => 0x3F717550#32
  | 81 => 0x3F8A26DE#32
  | 82 => 0xBE73A3CC#32
  | 83 => 0x3FD4AEE4#32
  | 84 => 0x3F4A3928#32
  | 85 => 0x3FDC1853#32
  | 86 => 0xBF18A05D#32
  | 87 => 0xBEC3F04D#32
  | 88 => 0x3F356CDB#32
  | 89 => 0x3D4F0C2B#32
  | 90 => 0xBF22E09A#32
  | 91 => 0x4026E3D7#32
  | 92 => 0x3FA8B67B#32
  | 93 => 0x3F7CD6F4#32
  | 94 => 0xBFDEB3F5#32
  | 95 => 0xBFCCE7DF#32
  | 96 => 0x4008AF6A#32
  | 97 => 0x3E4EEC8F#32
  | 98 => 0x3EDC9A6D#32
  | 99 => 0xBF6AFF80#32
  | 100 => 0x3F6866AF#32
  | 101 => 0x3F2A41C9#32
  | 102 => 0xBE895B9E#32
  | 103 => 0xBF029121#32
  | 104 => 0xBE86E48D#32
  | 105 => 0x40237B02#32
  | 106 => 0x40108EBC#32
  | 107 => 0xBE13B2B1#32
  | 108 => 0x40533E33#32
  | 109 => 0xBF3B38C8#32
  | 110 => 0x40320B75#32
  | 111 => 0x3EBDD50D#32
  | 112 => 0x3D6C61B6#32
  | 113 => 0x3F6DC099#32
  | 114 => 0x3E719D3F#32
  | 115 => 0xBE809B06#32
  | 116 => 0xBE36F3AD#32
  | 117 => 0x3F0B2140#32
  | 118 => 0x3FA09AB0#32
  | 119 => 0xBFC962F9#32
  | 120 => 0x4095544B#32
  | 121 => 0x3FB35001#32
  | 122 => 0x3F2C3174#32
  | 123 => 0x401A0243#32
  | 124 => 0x3C8BD301#32
  | 125 => 0x3FE27E95#32
  | 126 => 0x3FAF39A4#32
  | 127 => 0xBF34B702#32
  | _ => 0#32

noncomputable abbrev lit0t0_677 (i : Nat) : BitVec 32 := match i % 128 with
  | 0 => 0xBF90F836#32
  | 1 => 0x3E6149FB#32
  | 2 => 0x3F197F44#32
  | 3 => 0xBEECDC7C#32
  | 4 => 0x3F47C3D6#32
  | 5 => 0x3FE61B69#32
  | 6 => 0x3E2DCF72#32
  | 7 => 0xBF434C27#32
  | 8 => 0x3FB9F17C#32
  | 9 => 0x3F66F3F4#32
  | 10 => 0xBE1DC0DD#32
  | 11 => 0xBF4DB27D#32
  | 12 => 0xBEBFF02C#32
  | 13 => 0xBEEC18A9#32
  | 14 => 0xBFAE5AEA#32
  | 15 => 0x3F72F784#32
  | 16 => 0x3F9E409E#32
  | 17 => 0xBF395166#32
  | 18 => 0x3F954B00#32
  | 19 => 0x3F069E00#32
  | 20 => 0x3EFCF4C0#32
  | 21 => 0x3F912BE1#32
  | 22 => 0x3FCD6649#32
  | 23 => 0x3E7B6213#32
  | 24 => 0x3FA847DC#32
  | 25 => 0x3E576C07#32
  | 26 => 0x3F853B6D#32
  | 27 => 0x3FF946C9#32
  | 28 => 0x3F5E6574#32
  | 29 => 0x3F29BFD8#32
  | 30 => 0x3E0D24BC#32
  | 31 => 0x40089DAD#32
  | 32 => 0x3F3848EE#32
  | 33 => 0x3FDCA99A#32
  | 34 => 0x3FF687A2#32
  | 35 => 0x3F0EE943#32
  | 36 => 0xBEBF05E8#32
  | 37 => 0x3EE36EB1#32
  | 38 => 0xBF45E710#32
  | 39 => 0x3F872BF0#32
  | 40 => 0x3EC454C6#32
  | 41 => 0x3E1584E7#32
  | 42 => 0x3DF879D5#32
  | 43 => 0x3DF78F44#32
  | 44 => 0x404D161D#32
  | 45 => 0xBF04DD13#32
  | 46 => 0xBE53DE4F#32
  | 47 => 0xBF560B49#32
  | 48 => 0x3F72CFE6#32
  | 49 => 0x3FED3DCC#32
  | 50 => 0x400276BA#32
  | 51 => 0x3FD319EA#32
  | 52 => 0x3EFCECFA#32
  | 53 => 0x3E50F864#32
  | 54 => 0x3FDF44BF#32
  | 55 => 0xBF7D814E#32
  | 56 => 0x3E9585DE#32
  | 57 => 0xBF41C386#32
  | 58 => 0xBFB4AA1A#32
  | 59 => 0xBEE36CAD#32
  | 60 => 0x3F8F3E28#32
  | 61 => 0x4043A9C9#32
  | 62 => 0x3ED91461#32
  | 63 => 0xBE5ACA3F#32
  | 64 => 0xBEB66B28#32
  | 65 => 0x3F13A4A0#32
  | 66 => 0xBFB2645E#32
  | 67 => 0x3F86E4DC#32
  | 68 => 0x3FD88A22#32
  | 69 => 0xBF851D48#32
  | 70 => 0x4082130A#32
  | 71 => 0x3F63A95F#32
  | 72 => 0x3DB00104#32
  | 73 => 0xBFD00A7E#32
  | 74 => 0xBF2109E5#32
  | 75 => 0x40087C70#32
  | 76 => 0x3FCB2A7C#32
  | 77 => 0x3FA80812#32
  | 78 => 0xBF9F29FF#32
  | 79 => 0xBF124CE2#32
  | 80 => 0xBF5809AF#32
  | 81 => 0xBD58EA13#32
  | 82 => 0xBFA26FD0#32
  | 83 => 0xBF3483A0#32
  | 84 => 0xBF176A5D#32
  | 85 => 0xBFB3A378#32
  | 86 => 0xBF1EE246#32
  | 87 => 0x3EAC8D52#32
  | 88 => 0x3ECFBDA7#32
  | 89 => 0xBF869F67#32
  | 90 => 0xBBDD0CB3#32
  | 91 => 0x3D15539F#32
  | 92 => 0x3F848F94#32
  | 93 => 0x3F985A72#32
  | 94 => 0xBF403B5C#32
  | 95 => 0xBECEAD14#32
  | 96 => 0xBDF5240C#32
  | 97 => 0x3F6546A2#32
  | 98 => 0x3F1032F3#32
  | 99 => 0xBF2B2A51#32
  | 100 => 0xBDBFC69B#32
  | 101 => 0x3EF1CC66#32
  | 102 => 0xBFF5E465#32
  | 103 => 0xBF5F04EF#32
  | 104 => 0x3FD9B3E6#32
  | 105 => 0xBEE95BCD#32
  | 106 => 0xBF89EC25#32
  | 107 => 0x401B6269#32
  | 108 => 0xBD9A9BB4#32
  | 109 => 0xBE6F405D#32
  | 110 => 0x3FAED869#32
  | 111 => 0x3F1792F1#32
  | 112 => 0x3FAB3534#32
  | 113 => 0xBDE5CA15#32
  | 114 => 0x3FB2D59E#32
  | 115 => 0x3FCE0099#32
  | 116 => 0xBF322C32#32
  | 117 => 0x3F3CF37B#32
  | 118 => 0x3EC5BA7B#32
  | 119 => 0x3FB9AFC0#32
  | 120 => 0x401DF090#32
  | 121 => 0xBE384AA2#32
  | 122 => 0x3F6F4453#32
  | 123 => 0xBF8CC278#32
  | 124 => 0x4010116E#32
  | 125 => 0xBF87BD4D#32
  | 126 => 0x4057D6D1#32
  | 127 => 0x3F51FF35#32
  | _ => 0#32

noncomputable abbrev lit0t0_678 (i : Nat) : BitVec 32 := match i % 128 with
  | 0 => 0x401A8603#32
  | 1 => 0x3FBBE311#32
  | 2 => 0x3FAE1A21#32
  | 3 => 0x3F497168#32
  | 4 => 0x3F76E2D8#32
  | 5 => 0xBE861FF9#32
  | 6 => 0xBF13C27A#32
  | 7 => 0x3EEC5A3A#32
  | 8 => 0x3F66E572#32
  | 9 => 0x3F299E85#32
  | 10 => 0x40AB049F#32
  | 11 => 0xBEE5EC14#32
  | 12 => 0xBEA1364F#32
  | 13 => 0xBE85ACB8#32
  | 14 => 0x3E0078A8#32
  | 15 => 0x3E076C74#32
  | 16 => 0xBE20EF38#32
  | 17 => 0xBECE4E45#32
  | 18 => 0xBF359190#32
  | 19 => 0xBF8077B0#32
  | 20 => 0xBE8468DB#32
  | 21 => 0xBF9DA94A#32
  | 22 => 0x3F510F16#32
  | 23 => 0xBDCBECFF#32
  | 24 => 0x409D5252#32
  | 25 => 0x400A941C#32
  | 26 => 0xBF0773C7#32
  | 27 => 0xBF38FBCD#32
  | 28 => 0x3F83B36A#32
  | 29 => 0x3FA0F120#32
  | 30 => 0x3EC723BC#32
  | 31 => 0x3F71A7D2#32
  | 32 => 0xBF256DD7#32
  | 33 => 0x40E7F3FB#32
  | 34 => 0x3F4BD61D#32
  | 35 => 0xBE2E1BBD#32
  | 36 => 0xBF56CCF8#32
  | 37 => 0x3F2D3DCB#32
  | 38 => 0xBE51571F#32
  | 39 => 0xBF0507DB#32
  | 40 => 0x3F82585B#32
  | 41 => 0xBF3093A2#32
  | 42 => 0x3FB90DB3#32
  | 43 => 0xBF077BBE#32
  | 44 => 0x3E142C10#32
  | 45 => 0x4002EAFC#32
  | 46 => 0x3FDFCE64#32
  | 47 => 0x401E44EC#32
  | 48 => 0x3F149E8C#32
  | 49 => 0xBEDDC537#32
  | 50 => 0x3F62693C#32
  | 51 => 0x3F066C30#32
  | 52 => 0x3F32CAD3#32
  | 53 => 0xBF92E75E#32
  | 54 => 0xBECB4802#32
  | 55 => 0xBFA68D67#32
  | 56 => 0x4024742E#32
  | 57 => 0xBE252CA4#32
  | 58 => 0x3D73976F#32
  | 59 => 0x3FEB9A8E#32
  | 60 => 0x3F46E829#32
  | 61 => 0x3F81F53C#32
  | 62 => 0x3FBE37E3#32
  | 63 => 0x3F9854C1#32
  | 64 => 0x3EC5A529#32
  | 65 => 0xBE4D2A94#32
  | 66 => 0xBE494599#32
  | 67 => 0x3E88D22E#32
  | 68 => 0x401A2067#32
  | 69 => 0x404FEB83#32
  | 70 => 0x3FB10ECF#32
  | 71 => 0x3FB08BFD#32
  | 72 => 0x3FE0318A#32
  | 73 => 0xBF8EAD1B#32
  | 74 => 0x3E556333#32
  | 75 => 0x3F844B98#32
  | 76 => 0x3E948C2A#32
  | 77 => 0x40039352#32
  | 78 => 0xBF535844#32
  | 79 => 0x3EC6DC30#32
  | 80 => 0x40179AE7#32
  | 81 => 0xBFC08128#32
  | 82 => 0x3DED75F8#32
  | 83 => 0xBFA4B633#32
  | 84 => 0x403D29B2#32
  | 85 => 0xBF31F04F#32
  | 86 => 0x3F282ED4#32
  | 87 => 0xBDF496A2#32
  | 88 => 0xBE896FA4#32
  | 89 => 0x4006645B#32
  | 90 => 0x3FBD5763#32
  | 91 => 0x3F50D519#32
  | 92 => 0x3FC79BAF#32
  | 93 => 0x3D989850#32
  | 94 => 0x3EC6504D#32
  | 95 => 0x3F361799#32
  | 96 => 0x3F2A687E#32
  | 97 => 0x3E425134#32
  | 98 => 0x3E2259FD#32
  | 99 => 0xBF8672D5#32
  | 100 => 0xBFE3ACDA#32
  | 101 => 0x3E16C169#32
  | 102 => 0xBE40809B#32
  | 103 => 0x3F5CBADD#32
  | 104 => 0x3FF2EA72#32
  | 105 => 0x3F2543B2#32
  | 106 => 0xBEFB1A23#32
  | 107 => 0xBF26CBCC#32
  | 108 => 0x3F3A7672#32
  | 109 => 0x3E77FD3F#32
  | 110 => 0x3F085B33#32
  | 111 => 0xBD7BBBDE#32
  | 112 => 0x3F8BC9A3#32
  | 113 => 0xBEF2CD88#32
  | 114 => 0x3FF37A4C#32
  | 115 => 0xBF0AEFB6#32
  | 116 => 0x3D7ACE6B#32
  | 117 => 0x3F315D2D#32
  | 118 => 0x3F2142A4#32
  | 119 => 0x3FFCDB1D#32
  | 120 => 0x3F962556#32
  | 121 => 0xBFC33E6F#32
  | 122 => 0xBF74C7E8#32
  | 123 => 0x404B8939#32
  | 124 => 0xBEEA01EC#32
  | 125 => 0x3FE0747D#32
  | 126 => 0xBF6CD59C#32
  | 127 => 0xBB9488B0#32
  | _ => 0#32

noncomputable abbrev lit0t0_679 (i : Nat) : BitVec 32 := match i % 128 with
  | 0 => 0x3EFB3A3C#32
  | 1 => 0x3F2EADCB#32
  | 2 => 0xBF611087#32
  | 3 => 0x40116E5E#32
  | 4 => 0x40219BF0#32
  | 5 => 0xBFE55D70#32
  | 6 => 0x3EADFFE0#32
  | 7 => 0x3F6F7D3A#32
  | 8 => 0x3F2EE547#32
  | 9 => 0x4047437C#32
  | 10 => 0x3F8C7C2C#32
  | 11 => 0xBF1A0708#32
  | 12 => 0x3FEEF79F#32
  | 13 => 0x3F63DDF2#32
  | 14 => 0x405FA10B#32
  | 15 => 0x3FB41B9B#32
  | 16 => 0xBF9C03DD#32
  | 17 => 0xBF896B72#32
  | 18 => 0xBF015A91#32
  | 19 => 0x3FA33BAA#32
  | 20 => 0x3F9723B7#32
  | 21 => 0xBECC38C2#32
  | 22 => 0x3F639ED2#32
  | 23 => 0x40418D88#32
  | 24 => 0x4007AFF1#32
  | 25 => 0xBE2496B6#32
  | 26 => 0xBEA23AA4#32
  | 27 => 0xBDEA3CE9#32
  | 28 => 0x3F792B70#32
  | 29 => 0x3F6A7C0F#32
  | 30 => 0x403A4788#32
  | 31 => 0xBF290625#32
  | 32 => 0xBE9B4BC0#32
  | 33 => 0xBE86E648#32
  | 34 => 0x3E269FA4#32
  | 35 => 0x3FA782E0#32
  | 36 => 0x405B4F92#32
  | 37 => 0x3FFD7587#32
  | 38 => 0xBF4E4478#32
  | 39 => 0x4005806F#32
  | 40 => 0xBDCB5A46#32
  | 41 => 0x40020174#32
  | 42 => 0x4003553A#32
  | 43 => 0x3E80F342#32
  | 44 => 0x3F38A91D#32
  | 45 => 0x40160B2D#32
  | 46 => 0x403C5D2D#32
  | 47 => 0x3F278135#32
  | 48 => 0x3F967C2F#32
  | 49 => 0x3F46F3A6#32
  | 50 => 0x3F89BA20#32
  | 51 => 0x40A35BB1#32
  | 52 => 0x3FC86D52#32
  | 53 => 0x3F9FCE0E#32
  | 54 => 0x3F03045C#32
  | 55 => 0xBEF47EAA#32
  | 56 => 0x3F699D85#32
  | 57 => 0x3FA0666E#32
  | 58 => 0x3F73D81A#32
  | 59 => 0x410C7100#32
  | 60 => 0xBECBE986#32
  | 61 => 0xBF9376AD#32
  | 62 => 0x3D8F20B9#32
  | 63 => 0x3E2CD2B7#32
  | 64 => 0x3FB3E374#32
  | 65 => 0x4034D527#32
  | 66 => 0xBE98C852#32
  | 67 => 0x3F8E8F54#32
  | 68 => 0xBF385F53#32
  | 69 => 0x400A6C17#32
  | 70 => 0xBF4536DB#32
  | 71 => 0x3FFAD5D3#32
  | 72 => 0xBF4CCA96#32
  | 73 => 0x3E76A3EF#32
  | 74 => 0xBD7D2FF6#32
  | 75 => 0x3FEAD2C4#32
  | 76 => 0x3E286DDE#32
  | 77 => 0xBF43FE17#32
  | 78 => 0xBFA30AE0#32
  | 79 => 0xBF9243E4#32
  | 80 => 0x3E82E3F6#32
  | 81 => 0x3FFB9738#32
  | 82 => 0x3EAA5ADD#32
  | 83 => 0x3F15AB51#32
  | 84 => 0x3EE04FA1#32
  | 85 => 0xBF83DC2C#32
  | 86 => 0x3D92C198#32
  | 87 => 0x3FDB60D8#32
  | 88 => 0x3FA5D6E8#32
  | 89 => 0xBEFDB7BC#32
  | 90 => 0xBF03BA04#32
  | 91 => 0xBE3B00F0#32
  | 92 => 0x3F2776E3#32
  | 93 => 0xBDDD3059#32
  | 94 => 0xBD23A29B#32
  | 95 => 0x3F435BF4#32
  | 96 => 0xBF9134D0#32
  | 97 => 0x3FEE7E38#32
  | 98 => 0x3E0C0EF1#32
  | 99 => 0xBF2DAC60#32
  | 100 => 0x3F5B670D#32
  | 101 => 0x40198774#32
  | 102 => 0x3DF1A875#32
  | 103 => 0x3FCC63EB#32
  | 104 => 0x3FEECE16#32
  | 105 => 0xBF1965C4#32
  | 106 => 0x3E7382C1#32
  | 107 => 0x3F827DB1#32
  | 108 => 0x3FF8CD17#32
  | 109 => 0x3CBACE63#32
  | 110 => 0xBE80F674#32
  | 111 => 0x3E130366#32
  | 112 => 0x3FC03CCE#32
  | 113 => 0xBF2A16DD#32
  | 114 => 0x3FEAB7B8#32
  | 115 => 0x3EB2FD17#32
  | 116 => 0x3ED78D76#32
  | 117 => 0xBF7525E5#32
  | 118 => 0x3FCD1F38#32
  | 119 => 0xBF6B1A60#32
  | 120 => 0x40605C25#32
  | 121 => 0xBF1091EB#32
  | 122 => 0x3F378201#32
  | 123 => 0x3FB29DEE#32
  | 124 => 0xBE83712B#32
  | 125 => 0x40433D9F#32
  | 126 => 0xBEB0A66E#32
  | 127 => 0xBF789C1A#32
  | _ => 0#32

noncomputable abbrev lit0t0_680 (i : Nat) : BitVec 32 := match i % 128 with
  | 0 => 0x3F81D02E#32
  | 1 => 0x3DE186EC#32
  | 2 => 0x406890F2#32
  | 3 => 0xBEB79B28#32
  | 4 => 0x4053D313#32
  | 5 => 0x3F0A3989#32
  | 6 => 0x4014DAD4#32
  | 7 => 0x4062A9C3#32
  | 8 => 0x3FBF4E80#32
  | 9 => 0x3F6838B8#32
  | 10 => 0x3F5A8CD5#32
  | 11 => 0xBF08A7CA#32
  | 12 => 0x3ED25C6C#32
  | 13 => 0x3F99EF02#32
  | 14 => 0x3EFFE033#32
  | 15 => 0xBC29B537#32
  | 16 => 0xBF6D8289#32
  | 17 => 0xBF0DDE16#32
  | 18 => 0x3E127348#32
  | 19 => 0xBFE388C2#32
  | 20 => 0xBD8F1194#32
  | 21 => 0x3F688103#32
  | 22 => 0x3F5DA192#32
  | 23 => 0xBDACCC6E#32
  | 24 => 0xBEF1D70A#32
  | 25 => 0x3F428AB1#32
  | 26 => 0xBEF53C5A#32
  | 27 => 0x3F7260E6#32
  | 28 => 0x3FF57BD6#32
  | 29 => 0x3E70D027#32
  | 30 => 0xBDA8A5DD#32
  | 31 => 0xBEDABAE3#32
  | 32 => 0xBF519B62#32
  | 33 => 0xBF938761#32
  | 34 => 0xBEAA03D7#32
  | 35 => 0xBF12BDDA#32
  | 36 => 0x3F3F1F6D#32
  | 37 => 0xBE935D4A#32
  | 38 => 0xBE38142E#32
  | 39 => 0x3F5D3EBF#32
  | 40 => 0x3F6AA949#32
  | 41 => 0x3F20BE48#32
  | 42 => 0xBFB1852F#32
  | 43 => 0xBCCD311B#32
  | 44 => 0xBF05C456#32
  | 45 => 0x3C7EAC17#32
  | 46 => 0x3DE3D16F#32
  | 47 => 0x3FA4F36E#32
  | 48 => 0x3F838D4C#32
  | 49 => 0xBEDA91C3#32
  | 50 => 0xBEA0CD35#32
  | 51 => 0x3E179243#32
  | 52 => 0xBE120BDF#32
  | 53 => 0x3FC3116A#32
  | 54 => 0xBE8D1689#32
  | 55 => 0x3D872F4E#32
  | 56 => 0xBF00B257#32
  | 57 => 0x3EB65588#32
  | 58 => 0x3FBA1D59#32
  | 59 => 0xBE1A7B24#32
  | 60 => 0xBF24A43A#32
  | 61 => 0xBEAE4A47#32
  | 62 => 0xBF09F2A3#32
  | 63 => 0xBB99F049#32
  | 64 => 0x40AC77F7#32
  | 65 => 0x3E8A3F9B#32
  | 66 => 0xBE1DB527#32
  | 67 => 0x3EABA077#32
  | 68 => 0x3DAA6EEC#32
  | 69 => 0x3E6B8B31#32
  | 70 => 0x3E70C59E#32
  | 71 => 0xBE5FD667#32
  | 72 => 0xBF30CA99#32
  | 73 => 0x400904A4#32
  | 74 => 0x3F9B5CEA#32
  | 75 => 0xBF9E8153#32
  | 76 => 0xBF838A5F#32
  | 77 => 0xBF56F0F2#32
  | 78 => 0x3EA52D04#32
  | 79 => 0x3FA33267#32
  | 80 => 0x3CC67492#32
  | 81 => 0x3E060D32#32
  | 82 => 0x3FEA7DC6#32
  | 83 => 0x3D0A856D#32
  | 84 => 0xBED1E518#32
  | 85 => 0x40DFDEC5#32
  | 86 => 0x3EC8A96F#32
  | 87 => 0x3FB5CA6B#32
  | 88 => 0x3FA5CC45#32
  | 89 => 0xBF694DCE#32
  | 90 => 0xBF18DD59#32
  | 91 => 0x3F1C3E0A#32
  | 92 => 0x409F29D4#32
  | 93 => 0xBF33E129#32
  | 94 => 0xBF4A9507#32
  | 95 => 0xBF55E7F2#32
  | 96 => 0x403936DA#32
  | 97 => 0x3F969402#32
  | 98 => 0x3E91089E#32
  | 99 => 0x3F71E158#32
  | 100 => 0x3F3C2E5C#32
  | 101 => 0xBF1E2943#32
  | 102 => 0x3E2A1A56#32
  | 103 => 0x3FE57BA8#32
  | 104 => 0xBD7ECB46#32
  | 105 => 0x408195E0#32
  | 106 => 0x3F9D8F90#32
  | 107 => 0xBDCB4DA7#32
  | 108 => 0xBCCF2980#32
  | 109 => 0x3DE591BD#32
  | 110 => 0xBF6E5EB5#32
  | 111 => 0x3F8BFD49#32
  | 112 => 0x3F767D8A#32
  | 113 => 0x4069B0EF#32
  | 114 => 0xBE11C748#32
  | 115 => 0xBF7203C2#32
  | 116 => 0xBF1B0CD8#32
  | 117 => 0xBD226BD9#32
  | 118 => 0x3F31BE58#32
  | 119 => 0xBF716F36#32
  | 120 => 0x401B2E54#32
  | 121 => 0xBF523376#32
  | 122 => 0x3E08322B#32
  | 123 => 0x3F9C9642#32
  | 124 => 0xBF3FC803#32
  | 125 => 0x4056FC90#32
  | 126 => 0xBF522E40#32
  | 127 => 0x3DCDC457#32
  | _ => 0#32

noncomputable abbrev lit0t0_681 (i : Nat) : BitVec 32 := match i % 128 with
  | 0 => 0xBF0712D4#32
  | 1 => 0xBF3D59C6#32
  | 2 => 0x3FB07472#32
  | 3 => 0xBDFF5F5A#32
  | 4 => 0x3E83B700#32
  | 5 => 0xBF0D07C8#32
  | 6 => 0xBF098D20#32
  | 7 => 0x3FB49BCC#32
  | 8 => 0xBF81F2D4#32
  | 9 => 0xBE748EC4#32
  | 10 => 0x3F056614#32
  | 11 => 0xBF4D0426#32
  | 12 => 0x3F9B1E98#32
  | 13 => 0x3E8C1E93#32
  | 14 => 0x401D9E0B#32
  | 15 => 0x3E06B088#32
  | 16 => 0x40145ED2#32
  | 17 => 0x40561ADC#32
  | 18 => 0x3EE71ED2#32
  | 19 => 0x3F12042E#32
  | 20 => 0xBF811E22#32
  | 21 => 0xBD6B0AD8#32
  | 22 => 0x3F27BA30#32
  | 23 => 0x3DF4FE82#32
  | 24 => 0x3E9644F4#32
  | 25 => 0x40B4A069#32
  | 26 => 0x3C8FD4BB#32
  | 27 => 0x3F16D524#32
  | 28 => 0x402B6D0C#32
  | 29 => 0x3E9D1F94#32
  | 30 => 0xBF158F81#32
  | 31 => 0x40644E4D#32
  | 32 => 0xBF80226F#32
  | 33 => 0x404A3662#32
  | 34 => 0x3F41FEB4#32
  | 35 => 0xBEB8E619#32
  | 36 => 0xBFB555C9#32
  | 37 => 0xBF5B8982#32
  | 38 => 0xBED74CC0#32
  | 39 => 0xBF1AEE51#32
  | 40 => 0xBE5A7494#32
  | 41 => 0xBEAD2AD4#32
  | 42 => 0x3F19FD2D#32
  | 43 => 0x3FC70BA8#32
  | 44 => 0x4019ADC9#32
  | 45 => 0x3F91B2E5#32
  | 46 => 0x3F85BE82#32
  | 47 => 0x3EB4769E#32
  | 48 => 0xBF933E4F#32
  | 49 => 0xBEBC70EB#32
  | 50 => 0xBF4B3443#32
  | 51 => 0x3FBB6560#32
  | 52 => 0x3F57B1D2#32
  | 53 => 0x3EC7CB66#32
  | 54 => 0x3FAF3C46#32
  | 55 => 0x3D9E9F81#32
  | 56 => 0x4019B233#32
  | 57 => 0xBEE50E3A#32
  | 58 => 0xBF4C3BEA#32
  | 59 => 0x3E913750#32
  | 60 => 0x405E0CC9#32
  | 61 => 0x3D537144#32
  | 62 => 0x3EE67126#32
  | 63 => 0x3E9DDDE5#32
  | 64 => 0xBE0C33EF#32
  | 65 => 0xBEB8527B#32
  | 66 => 0x3D04D2A6#32
  | 67 => 0xBC8ECB8A#32
  | 68 => 0xBF8DAA54#32
  | 69 => 0x40444B56#32
  | 70 => 0xBEE27ABA#32
  | 71 => 0x3E10237B#32
  | 72 => 0x404C40E0#32
  | 73 => 0x3F9B14AE#32
  | 74 => 0x404D45CC#32
  | 75 => 0xBF53655B#32
  | 76 => 0xBF8C2115#32
  | 77 => 0x3F496E3E#32
  | 78 => 0x3F5DFF5E#32
  | 79 => 0x3E9CE5D6#32
  | 80 => 0xBC15F0D2#32
  | 81 => 0xBE9D3142#32
  | 82 => 0x40242C81#32
  | 83 => 0x3DBCD337#32
  | 84 => 0x3FB4E39E#32
  | 85 => 0xBE9E8CAD#32
  | 86 => 0x3FB32F37#32
  | 87 => 0x3D462173#32
  | 88 => 0x3E8FAD84#32
  | 89 => 0xBF472D21#32
  | 90 => 0xBDC78A56#32
  | 91 => 0xBF3173D0#32
  | 92 => 0xBE448C33#32
  | 93 => 0x3D6BB31F#32
  | 94 => 0x403816DE#32
  | 95 => 0x3F4E696D#32
  | 96 => 0x3F6DD102#32
  | 97 => 0x3FE7C435#32
  | 98 => 0x3B8551D6#32
  | 99 => 0x3E19AA0B#32
  | 100 => 0x3F552C0A#32
  | 101 => 0xBF1B56A1#32
  | 102 => 0x3F0CC676#32
  | 103 => 0x40028BAF#32
  | 104 => 0xBFE930DB#32
  | 105 => 0x3F6AA8F6#32
  | 106 => 0xBF7CBE4A#32
  | 107 => 0x3D984970#32
  | 108 => 0x3F3ED783#32
  | 109 => 0x3F82D5C1#32
  | 110 => 0x3EEB7486#32
  | 111 => 0x4061C748#32
  | 112 => 0xBF17C6EE#32
  | 113 => 0x3FB88FDC#32
  | 114 => 0x3F8D807D#32
  | 115 => 0xBFAB2B78#32
  | 116 => 0xBDBA3B8D#32
  | 117 => 0x3E7FD2D8#32
  | 118 => 0x3F88AEB4#32
  | 119 => 0x3EC77983#32
  | 120 => 0x3FF2E3E0#32
  | 121 => 0x3E4E0520#32
  | 122 => 0x3F487003#32
  | 123 => 0xBE7C9ED0#32
  | 124 => 0xBF1D7874#32
  | 125 => 0xBDD8486A#32
  | 126 => 0x3D9CD8EF#32
  | 127 => 0x3E5A5F77#32
  | _ => 0#32

noncomputable abbrev lit0t0_682 (i : Nat) : BitVec 32 := match i % 128 with
  | 0 => 0x40633B86#32
  | 1 => 0x3ED2C800#32
  | 2 => 0xBF893C5B#32
  | 3 => 0x3F13816F#32
  | 4 => 0x400F2497#32
  | 5 => 0x3E5569F9#32
  | 6 => 0x3E08CD55#32
  | 7 => 0xBDAC2D00#32
  | 8 => 0x3F20BE94#32
  | 9 => 0xBDE3461A#32
  | 10 => 0x3F215176#32
  | 11 => 0x40790A4E#32
  | 12 => 0xBE9791FC#32
  | 13 => 0x3DEB4730#32
  | 14 => 0xBEEDCE21#32
  | 15 => 0xBE225DF1#32
  | 16 => 0x3FB05F01#32
  | 17 => 0x3FFC02AC#32
  | 18 => 0x3F752619#32
  | 19 => 0xBEE548CF#32
  | 20 => 0xBF576A0C#32
  | 21 => 0x3FFAFE8A#32
  | 22 => 0x3F4790E6#32
  | 23 => 0xBF1917A6#32
  | 24 => 0xBF75129E#32
  | 25 => 0x4020E18E#32
  | 26 => 0x3ED3688D#32
  | 27 => 0xBD3555F5#32
  | 28 => 0xBF8B46BC#32
  | 29 => 0x3ED758BB#32
  | 30 => 0x3D9FE655#32
  | 31 => 0x3FBA5244#32
  | 32 => 0xBCA93D5F#32
  | 33 => 0x40661B7C#32
  | 34 => 0xBF379CD5#32
  | 35 => 0xBF556C96#32
  | 36 => 0xBF458D19#32
  | 37 => 0xBF904F66#32
  | 38 => 0x3E90A5D9#32
  | 39 => 0x3D2F8562#32
  | 40 => 0xBEF06DE4#32
  | 41 => 0x3D4F5557#32
  | 42 => 0x3E832EEF#32
  | 43 => 0xBF8E76D7#32
  | 44 => 0x3EED53BE#32
  | 45 => 0xBF1FC0AC#32
  | 46 => 0x3C744D37#32
  | 47 => 0xBEF40640#32
  | 48 => 0x3F191F99#32
  | 49 => 0xBE981604#32
  | 50 => 0x3F9EBF30#32
  | 51 => 0xBE9BA974#32
  | 52 => 0x3F49B765#32
  | 53 => 0xBE80E458#32
  | 54 => 0x3E6B27C8#32
  | 55 => 0x3F784AF7#32
  | 56 => 0x3E5DED6F#32
  | 57 => 0x3ECC982B#32
  | 58 => 0x4008580A#32
  | 59 => 0x3EB1AA85#32
  | 60 => 0xBF1418C3#32
  | 61 => 0x4038C2AB#32
  | 62 => 0xBF1FF54B#32
  | 63 => 0xBE5D3CCB#32
  | 64 => 0x4012084D#32
  | 65 => 0x3F9803A4#32
  | 66 => 0x3FA07502#32
  | 67 => 0x40565131#32
  | 68 => 0xBE47A3DC#32
  | 69 => 0xBFA011D1#32
  | 70 => 0x3EE7C564#32
  | 71 => 0x40257425#32
  | 72 => 0xBEC30FC1#32
  | 73 => 0x4097246D#32
  | 74 => 0xBFC8B837#32
  | 75 => 0xBF1B3BFD#32
  | 76 => 0x3FC9498B#32
  | 77 => 0x3EFD5F04#32
  | 78 => 0x404D11CE#32
  | 79 => 0x3F939200#32
  | 80 => 0x3F9F10F6#32
  | 81 => 0x3F553F78#32
  | 82 => 0x3E70E4A2#32
  | 83 => 0x3F48D23D#32
  | 84 => 0x4006809B#32
  | 85 => 0xBF193D42#32
  | 86 => 0x4003D070#32
  | 87 => 0x3FF496C2#32
  | 88 => 0x3FA32EC2#32
  | 89 => 0x3FD0C3AC#32
  | 90 => 0x40059ED2#32
  | 91 => 0x40062DD2#32
  | 92 => 0x3EC7E8B2#32
  | 93 => 0x400A0143#32
  | 94 => 0xBFAB8E7B#32
  | 95 => 0xBE825F65#32
  | 96 => 0x3F712F81#32
  | 97 => 0x3E700A9C#32
  | 98 => 0x3D240816#32
  | 99 => 0xBF0F3B9E#32
  | 100 => 0x3D5CD6DA#32
  | 101 => 0xBEFDC234#32
  | 102 => 0x3ECD65CB#32
  | 103 => 0x3EC446F2#32
  | 104 => 0x3F1CED60#32
  | 105 => 0xBFA2AEC8#32
  | 106 => 0xBE77129C#32
  | 107 => 0x3FF0B7A4#32
  | 108 => 0x3E852A6D#32
  | 109 => 0x3F263D48#32
  | 110 => 0xBF74ED4E#32
  | 111 => 0x3FC9F5FF#32
  | 112 => 0xBE7DF632#32
  | 113 => 0x3F54840A#32
  | 114 => 0x3FE7500A#32
  | 115 => 0xBF2D13D0#32
  | 116 => 0x4003AFED#32
  | 117 => 0x4026E861#32
  | 118 => 0xBF28E25F#32
  | 119 => 0x3F2178D2#32
  | 120 => 0x401550B2#32
  | 121 => 0x3FA73EFA#32
  | 122 => 0xBE75C081#32
  | 123 => 0x3EB7994A#32
  | 124 => 0x3E77525D#32
  | 125 => 0x3FC7848F#32
  | 126 => 0x3E8277C4#32
  | 127 => 0xBE85D32A#32
  | _ => 0#32

noncomputable abbrev lit0t0_683 (i : Nat) : BitVec 32 := match i % 128 with
  | 0 => 0x40242679#32
  | 1 => 0x3CBA2740#32
  | 2 => 0x403FCDCF#32
  | 3 => 0x3E09FD3D#32
  | 4 => 0x3F1ED279#32
  | 5 => 0xBF9B1A46#32
  | 6 => 0x3FDA2CF5#32
  | 7 => 0x3ED666F3#32
  | 8 => 0x3CBE57DE#32
  | 9 => 0x408D26EC#32
  | 10 => 0x3F57C51B#32
  | 11 => 0xBE61D628#32
  | 12 => 0x3F4BB490#32
  | 13 => 0xBEFC1EA6#32
  | 14 => 0x3F9266D4#32
  | 15 => 0x3F89D360#32
  | 16 => 0xBF9EEB20#32
  | 17 => 0xBF4ACA50#32
  | 18 => 0xBF101D1E#32
  | 19 => 0x3F71B229#32
  | 20 => 0xBF18F529#32
  | 21 => 0x3EA2A888#32
  | 22 => 0x3E68CFB8#32
  | 23 => 0xBE9B0DFC#32
  | 24 => 0x3ED45ADD#32
  | 25 => 0x3ECA35CB#32
  | 26 => 0x3F632384#32
  | 27 => 0x40353C10#32
  | 28 => 0x4009D732#32
  | 29 => 0x3EA18B8D#32
  | 30 => 0x400EA698#32
  | 31 => 0x3F948163#32
  | 32 => 0x40211133#32
  | 33 => 0xBF4CB077#32
  | 34 => 0x3FC6255E#32
  | 35 => 0x3F193C62#32
  | 36 => 0xBF2E2FF6#32
  | 37 => 0x3F9CE42B#32
  | 38 => 0x3F984798#32
  | 39 => 0x4023BF83#32
  | 40 => 0xBF9C44F0#32
  | 41 => 0xBF3DFA16#32
  | 42 => 0xBEA46C05#32
  | 43 => 0x3CFCB0C3#32
  | 44 => 0x3D2DCBF4#32
  | 45 => 0x3F67FD18#32
  | 46 => 0xBE9F5E20#32
  | 47 => 0xBF727440#32
  | 48 => 0x40123B6E#32
  | 49 => 0x3FA3A5DC#32
  | 50 => 0xBF98DA8E#32
  | 51 => 0x4055F4E7#32
  | 52 => 0x3F730F82#32
  | 53 => 0x400E80C5#32
  | 54 => 0x3CCADC5C#32
  | 55 => 0x401A1258#32
  | 56 => 0x40070D63#32
  | 57 => 0x4002AA65#32
  | 58 => 0xBF5E678A#32
  | 59 => 0x3F94D809#32
  | 60 => 0x3F84D59B#32
  | 61 => 0x3F629AF8#32
  | 62 => 0xBF1A8243#32
  | 63 => 0x3E418602#32
  | 64 => 0x3F50914E#32
  | 65 => 0xBFC28F6C#32
  | 66 => 0x3E56EBF5#32
  | 67 => 0xBE2C4258#32
  | 68 => 0xBF52C04C#32
  | 69 => 0xBF05F9CF#32
  | 70 => 0xBF604580#32
  | 71 => 0x3F0D9AEC#32
  | 72 => 0xBF20DF1F#32
  | 73 => 0xBE236E96#32
  | 74 => 0x3C88F3AF#32
  | 75 => 0x3F8A8FB0#32
  | 76 => 0x404AFAAC#32
  | 77 => 0x3D8CD383#32
  | 78 => 0x3E97259A#32
  | 79 => 0xBE18814A#32
  | 80 => 0xBDBDBDEF#32
  | 81 => 0x3FEC5019#32
  | 82 => 0xBF4761E4#32
  | 83 => 0x3FEC18EE#32
  | 84 => 0xBEAE2138#32
  | 85 => 0x3E825AF8#32
  | 86 => 0x3F7CEF6E#32
  | 87 => 0x402ACD11#32
  | 88 => 0xBE9440F2#32
  | 89 => 0xBF825CAC#32
  | 90 => 0xBE464889#32
  | 91 => 0xBD803807#32
  | 92 => 0x3F8D442E#32
  | 93 => 0xBF0958B9#32
  | 94 => 0x406BEE51#32
  | 95 => 0x3EEF14D0#32
  | 96 => 0xBF95ACA8#32
  | 97 => 0x3F23F52F#32
  | 98 => 0xBF04C69E#32
  | 99 => 0x3F79BD0C#32
  | 100 => 0x406473A1#32
  | 101 => 0x3DDB7B6B#32
  | 102 => 0xBF0AC0EF#32
  | 103 => 0x3EA4FC8D#32
  | 104 => 0x3F71CC18#32
  | 105 => 0xC004B8DD#32
  | 106 => 0xBF887801#32
  | 107 => 0x3E60B037#32
  | 108 => 0x3EBFCFBB#32
  | 109 => 0xBDDDF41B#32
  | 110 => 0xBF293E41#32
  | 111 => 0xBF066B08#32
  | 112 => 0x3F96D1CA#32
  | 113 => 0x3EA79434#32
  | 114 => 0xBF844912#32
  | 115 => 0xBD6027E7#32
  | 116 => 0x3F01EB90#32
  | 117 => 0x3D14DCAF#32
  | 118 => 0xBF8D0104#32
  | 119 => 0x3F3E4D38#32
  | 120 => 0x3CCEF1CF#32
  | 121 => 0x402AC601#32
  | 122 => 0x3F7FFC44#32
  | 123 => 0x3FECAE3A#32
  | 124 => 0xBFC5A870#32
  | 125 => 0x3E090337#32
  | 126 => 0x3F184C56#32
  | 127 => 0x3F43AFF5#32
  | _ => 0#32

noncomputable abbrev lit0t0_684 (i : Nat) : BitVec 32 := match i % 128 with
  | 0 => 0x3F9111C6#32
  | 1 => 0x401EA61E#32
  | 2 => 0x3F35AD35#32
  | 3 => 0x3ED10F39#32
  | 4 => 0x3F5F6106#32
  | 5 => 0xBED5A8F1#32
  | 6 => 0x3F870EDA#32
  | 7 => 0xBF369F91#32
  | 8 => 0xBEBCC2E3#32
  | 9 => 0x3F26F534#32
  | 10 => 0x4010F2D2#32
  | 11 => 0xBF3546D2#32
  | 12 => 0x401BC258#32
  | 13 => 0x400C77C8#32
  | 14 => 0x40B4F67C#32
  | 15 => 0xBF21060F#32
  | 16 => 0xBE29A3A4#32
  | 17 => 0x3EFC2F4E#32
  | 18 => 0xBED86DDF#32
  | 19 => 0x40125E8F#32
  | 20 => 0x3CA4CADD#32
  | 21 => 0xBF38BB4E#32
  | 22 => 0x3F87673A#32
  | 23 => 0x3F0BC4F1#32
  | 24 => 0x403BAADA#32
  | 25 => 0x3F383B39#32
  | 26 => 0x40113D21#32
  | 27 => 0x3FBB9E9B#32
  | 28 => 0x3FCF83FD#32
  | 29 => 0xBEACB768#32
  | 30 => 0xBDF7C7E0#32
  | 31 => 0x3EBA3197#32
  | 32 => 0x408596F5#32
  | 33 => 0x3E58A1D3#32
  | 34 => 0x3F71A61A#32
  | 35 => 0xBF77BD14#32
  | 36 => 0xBEEEDFB1#32
  | 37 => 0xBE46C47C#32
  | 38 => 0xBFDD04DA#32
  | 39 => 0xBD4A1A16#32
  | 40 => 0xBF04FFAB#32
  | 41 => 0x3FABADD0#32
  | 42 => 0xBEF9A1F4#32
  | 43 => 0x3F879E95#32
  | 44 => 0x4006757D#32
  | 45 => 0x40A13D90#32
  | 46 => 0x4085F05A#32
  | 47 => 0x3F5DBBE1#32
  | 48 => 0xBEC8C963#32
  | 49 => 0x3EA19A85#32
  | 50 => 0x3DD988C4#32
  | 51 => 0x3F9A3757#32
  | 52 => 0x3E731000#32
  | 53 => 0x40029B2C#32
  | 54 => 0x406D5F0C#32
  | 55 => 0x3F02C210#32
  | 56 => 0xBF38563E#32
  | 57 => 0x3F2DB427#32
  | 58 => 0xBF5D1288#32
  | 59 => 0x3F269611#32
  | 60 => 0x3FBA20BA#32
  | 61 => 0x3EDC4BB2#32
  | 62 => 0x3F8FC2BC#32
  | 63 => 0x40D56935#32
  | 64 => 0xBF8B1935#32
  | 65 => 0x4013F5E2#32
  | 66 => 0xBF5F6228#32
  | 67 => 0xBE972DB0#32
  | 68 => 0x4018345B#32
  | 69 => 0xBDA0B9C1#32
  | 70 => 0x3F513ACC#32
  | 71 => 0xBF3BEA86#32
  | 72 => 0xBD235E43#32
  | 73 => 0xBEF3DB53#32
  | 74 => 0x3FA46411#32
  | 75 => 0x3E0CFB2B#32
  | 76 => 0xBF54D73E#32
  | 77 => 0x3EE189B0#32
  | 78 => 0xBE61EDCA#32
  | 79 => 0xBF72E02C#32
  | 80 => 0xBF62C150#32
  | 81 => 0x3F57A106#32
  | 82 => 0x3E919FD6#32
  | 83 => 0x3F6FEE2F#32
  | 84 => 0xBF821116#32
  | 85 => 0xBF837696#32
  | 86 => 0x3E8B1AEB#32
  | 87 => 0xBE9B416C#32
  | 88 => 0x3FF53F27#32
  | 89 => 0x3F56B597#32
  | 90 => 0xBE7C0CBB#32
  | 91 => 0x4005FCE4#32
  | 92 => 0x3E9F0D46#32
  | 93 => 0xBF1D79E0#32
  | 94 => 0x4070879A#32
  | 95 => 0x4082B7DD#32
  | 96 => 0x4024433A#32
  | 97 => 0xBFACB994#32
  | 98 => 0xBD4A97F5#32
  | 99 => 0xBF19178C#32
  | 100 => 0x3F6A03FC#32
  | 101 => 0x3EC28A5A#32
  | 102 => 0xBE11D08D#32
  | 103 => 0xBFD4F88A#32
  | 104 => 0xBE407879#32
  | 105 => 0xBE9B7F84#32
  | 106 => 0x3FF549F2#32
  | 107 => 0x3FBAEC6D#32
  | 108 => 0xBF20DA65#32
  | 109 => 0x3CC3DFDB#32
  | 110 => 0x3F3EF744#32
  | 111 => 0xBF53D187#32
  | 112 => 0x3F9B1710#32
  | 113 => 0xBECA0E63#32
  | 114 => 0x3F8D4EBF#32
  | 115 => 0x3F1DBD37#32
  | 116 => 0x3ED6CA63#32
  | 117 => 0x3F02B8AB#32
  | 118 => 0xBF19A2B0#32
  | 119 => 0xBF4FA664#32
  | 120 => 0xBE0C030A#32
  | 121 => 0x3CCF0BB4#32
  | 122 => 0x3EC893FE#32
  | 123 => 0xBE7FBA3E#32
  | 124 => 0x3F34C4E6#32
  | 125 => 0xBDB09F9B#32
  | 126 => 0x3DF03E65#32
  | 127 => 0x404E097C#32
  | _ => 0#32

noncomputable abbrev lit0t0_685 (i : Nat) : BitVec 32 := match i % 128 with
  | 0 => 0xBFE8C957#32
  | 1 => 0x3F0AD1F8#32
  | 2 => 0x3FD0226A#32
  | 3 => 0x3FCFD1CC#32
  | 4 => 0xBF838F27#32
  | 5 => 0x3F8640DF#32
  | 6 => 0x3E6310F7#32
  | 7 => 0x3F2BC441#32
  | 8 => 0xBE74D020#32
  | 9 => 0x403186F7#32
  | 10 => 0x3F852AA0#32
  | 11 => 0xBEBDF19D#32
  | 12 => 0x3F6291BB#32
  | 13 => 0x40061407#32
  | 14 => 0x40A1DE59#32
  | 15 => 0x3FD39C79#32
  | 16 => 0x3F012F2E#32
  | 17 => 0xBF4AE366#32
  | 18 => 0x3E108D24#32
  | 19 => 0xBEB5D6B4#32
  | 20 => 0xBE5F4920#32
  | 21 => 0x3F662FBD#32
  | 22 => 0xBEA0E871#32
  | 23 => 0x3F385814#32
  | 24 => 0x3F2D12F8#32
  | 25 => 0x3F6E19FE#32
  | 26 => 0x409D8651#32
  | 27 => 0x3D9A80E3#32
  | 28 => 0x3F304780#32
  | 29 => 0x3D99CC7F#32
  | 30 => 0x400852DB#32
  | 31 => 0xBF52E8E6#32
  | 32 => 0xBF39A276#32
  | 33 => 0x3F4B3DA8#32
  | 34 => 0xBDDDD18F#32
  | 35 => 0x3F1576CC#32
  | 36 => 0xBF02413D#32
  | 37 => 0x3F8A5737#32
  | 38 => 0x3EFA9B34#32
  | 39 => 0x3F7E9481#32
  | 40 => 0x3F1FC668#32
  | 41 => 0x3E87A300#32
  | 42 => 0xBFA40CB2#32
  | 43 => 0x3FD8F7F7#32
  | 44 => 0x40160E67#32
  | 45 => 0x3FA39A6D#32
  | 46 => 0xBD7AA15C#32
  | 47 => 0x3FD812B0#32
  | 48 => 0x400672BA#32
  | 49 => 0xBF353AB1#32
  | 50 => 0x3D695E26#32
  | 51 => 0xBEB7EBCC#32
  | 52 => 0xBCCF5FDB#32
  | 53 => 0x3DE77A1B#32
  | 54 => 0xBFBB4A04#32
  | 55 => 0x3EF13DA2#32
  | 56 => 0x3F0023EA#32
  | 57 => 0xBF974E8E#32
  | 58 => 0x3E2ABE1E#32
  | 59 => 0x3F5C1940#32
  | 60 => 0xBECEC2D0#32
  | 61 => 0x3F43696A#32
  | 62 => 0xBFE58FD6#32
  | 63 => 0x3F346A89#32
  | 64 => 0x3ED4618C#32
  | 65 => 0x40872606#32
  | 66 => 0xBF9E1852#32
  | 67 => 0xBEC24036#32
  | 68 => 0x3F994170#32
  | 69 => 0x3F823FAC#32
  | 70 => 0x3E4AE4BF#32
  | 71 => 0x3F58FC6A#32
  | 72 => 0xBEBF9EF9#32
  | 73 => 0x3F06A560#32
  | 74 => 0xBF076AC1#32
  | 75 => 0x3B893F7A#32
  | 76 => 0x3E56F54E#32
  | 77 => 0x3F1984F5#32
  | 78 => 0x3FE57CE0#32
  | 79 => 0xBF680DAC#32
  | 80 => 0xBF9F9C78#32
  | 81 => 0x3ECD7DD2#32
  | 82 => 0xBEB424F2#32
  | 83 => 0xBEBF265C#32
  | 84 => 0xBF027A29#32
  | 85 => 0xBE043617#32
  | 86 => 0x3F9820F2#32
  | 87 => 0x4010D8D2#32
  | 88 => 0xBE6E734C#32
  | 89 => 0x3FEDEDEE#32
  | 90 => 0x3F50C4CC#32
  | 91 => 0x4068577F#32
  | 92 => 0x3FCEA05A#32
  | 93 => 0xBEC5D68E#32
  | 94 => 0xBEE50767#32
  | 95 => 0x3F73BCDA#32
  | 96 => 0x3F37F9AD#32
  | 97 => 0x3E19B5B7#32
  | 98 => 0xBF0244CE#32
  | 99 => 0xBE5364FA#32
  | 100 => 0x3EDA8DB6#32
  | 101 => 0x3F811770#32
  | 102 => 0xBF1E0D1C#32
  | 103 => 0x3EFD53D8#32
  | 104 => 0x40411592#32
  | 105 => 0x405002A4#32
  | 106 => 0x3FC83DCA#32
  | 107 => 0x3F023364#32
  | 108 => 0x3F4F12C2#32
  | 109 => 0x3DA9F098#32
  | 110 => 0xBBB32E5C#32
  | 111 => 0xBF77CADD#32
  | 112 => 0x3F6DC17A#32
  | 113 => 0xBED8ECF8#32
  | 114 => 0x3FB37B93#32
  | 115 => 0xBF4D28A8#32
  | 116 => 0x3F21E05C#32
  | 117 => 0xBF786594#32
  | 118 => 0xBF36A365#32
  | 119 => 0xBF25EED8#32
  | 120 => 0xBF843F29#32
  | 121 => 0xBF2575B5#32
  | 122 => 0xBF046FB6#32
  | 123 => 0xBF81949D#32
  | 124 => 0x40985A2B#32
  | 125 => 0x3F5DE375#32
  | 126 => 0x3F827C73#32
  | 127 => 0x3F5E195B#32
  | _ => 0#32

noncomputable abbrev lit0t0_686 (i : Nat) : BitVec 32 := match i % 128 with
  | 0 => 0x3EE31F80#32
  | 1 => 0xBF7196E6#32
  | 2 => 0x3FF3A11E#32
  | 3 => 0xBDA3BCD0#32
  | 4 => 0xBF189628#32
  | 5 => 0xBE5AE3EA#32
  | 6 => 0xBEBB7D18#32
  | 7 => 0xBF6D59EB#32
  | 8 => 0xBF51A1F8#32
  | 9 => 0x3F72E0E6#32
  | 10 => 0xBEE05B37#32
  | 11 => 0x40438729#32
  | 12 => 0xBEF702FC#32
  | 13 => 0x3FD2147C#32
  | 14 => 0x40473FCF#32
  | 15 => 0x3FF39470#32
  | 16 => 0xBF9DD3B6#32
  | 17 => 0x3F8B020A#32
  | 18 => 0xBF54AA0F#32
  | 19 => 0xBF4B3C11#32
  | 20 => 0x3E80583C#32
  | 21 => 0xBE185D72#32
  | 22 => 0xBF6FCCC8#32
  | 23 => 0x3E718F60#32
  | 24 => 0xBD7FA270#32
  | 25 => 0x3DF0E2BC#32
  | 26 => 0xBF0343AF#32
  | 27 => 0x3FEAA36B#32
  | 28 => 0x400ECA27#32
  | 29 => 0x3F2707AE#32
  | 30 => 0x3E969843#32
  | 31 => 0x3FB16AC3#32
  | 32 => 0xBF18E7D3#32
  | 33 => 0x3F08361A#32
  | 34 => 0xBF6CAC27#32
  | 35 => 0x3D2A8E90#32
  | 36 => 0x3FC60B33#32
  | 37 => 0x3FFD20EF#32
  | 38 => 0x4026C96B#32
  | 39 => 0xBFC7FF5E#32
  | 40 => 0x3FAE67F9#32
  | 41 => 0x3FD697F1#32
  | 42 => 0x3F3C1998#32
  | 43 => 0xBF83483E#32
  | 44 => 0x3F36B81B#32
  | 45 => 0x40684437#32
  | 46 => 0xBC2C7FB7#32
  | 47 => 0xBEF83592#32
  | 48 => 0xBEC8D7FF#32
  | 49 => 0xBE23265B#32
  | 50 => 0x3E1A8DD6#32
  | 51 => 0xBF47063E#32
  | 52 => 0x3F3597AD#32
  | 53 => 0xBD0993D5#32
  | 54 => 0x3B1F075A#32
  | 55 => 0xBF33FF79#32
  | 56 => 0x3EA7CE69#32
  | 57 => 0xBEEC1B06#32
  | 58 => 0x3F276850#32
  | 59 => 0xBF1C5649#32
  | 60 => 0xBF29473E#32
  | 61 => 0x40287837#32
  | 62 => 0xBE8DBCC3#32
  | 63 => 0x3E873233#32
  | 64 => 0xBE846B7F#32
  | 65 => 0xBFA09FDF#32
  | 66 => 0x3EDFC9DC#32
  | 67 => 0xBB08A581#32
  | 68 => 0x3F480648#32
  | 69 => 0x40995994#32
  | 70 => 0x3F5416BF#32
  | 71 => 0xBEE8143B#32
  | 72 => 0x3F0441DC#32
  | 73 => 0x3E419E04#32
  | 74 => 0x3D9773FE#32
  | 75 => 0x3F705988#32
  | 76 => 0xBECF54C3#32
  | 77 => 0x3D117BA7#32
  | 78 => 0xBF2A7901#32
  | 79 => 0x3D0F8DA7#32
  | 80 => 0xBFA46E8B#32
  | 81 => 0x3E71FE14#32
  | 82 => 0xBDBDC33B#32
  | 83 => 0x3FDC8F9E#32
  | 84 => 0xBED1E0E2#32
  | 85 => 0x3F003F58#32
  | 86 => 0x3E4798C6#32
  | 87 => 0x3FC5FDE6#32
  | 88 => 0x3FF349F3#32
  | 89 => 0xBDEDC81B#32
  | 90 => 0x405C601D#32
  | 91 => 0x3FF03821#32
  | 92 => 0x3F8D0CDC#32
  | 93 => 0x40A85442#32
  | 94 => 0xBD07E03F#32
  | 95 => 0x38520159#32
  | 96 => 0x3F8A24EA#32
  | 97 => 0xBF3244A9#32
  | 98 => 0x3E8633A5#32
  | 99 => 0x3ECBD900#32
  | 100 => 0xBECCFF7A#32
  | 101 => 0x3F1977C6#32
  | 102 => 0x3F1D5954#32
  | 103 => 0xBF2A11CF#32
  | 104 => 0x3EC87215#32
  | 105 => 0xBD1E1587#32
  | 106 => 0x3E8C4E66#32
  | 107 => 0xBF47C116#32
  | 108 => 0x3FE80066#32
  | 109 => 0x3E30B2CA#32
  | 110 => 0x3E375040#32
  | 111 => 0x403C2CFE#32
  | 112 => 0xBED7DCCD#32
  | 113 => 0xBFA75250#32
  | 114 => 0x405819B5#32
  | 115 => 0xBEF57058#32
  | 116 => 0x407C388F#32
  | 117 => 0xBF0594D8#32
  | 118 => 0x3EA06A3F#32
  | 119 => 0xBDA95E4F#32
  | 120 => 0x3F0F3898#32
  | 121 => 0xBE36FA3D#32
  | 122 => 0xBFB1608D#32
  | 123 => 0x3F09A3B1#32
  | 124 => 0x3FA0EEAA#32
  | 125 => 0xBFA40ABE#32
  | 126 => 0xBD8BBE5E#32
  | 127 => 0x3F2DB34E#32
  | _ => 0#32

noncomputable abbrev lit0t0_687 (i : Nat) : BitVec 32 := match i % 128 with
  | 0 => 0x408A177E#32
  | 1 => 0xBF18B106#32
  | 2 => 0xBFB4B9E3#32
  | 3 => 0x3E4BCA36#32
  | 4 => 0x3FF2DA29#32
  | 5 => 0x3FBC293F#32
  | 6 => 0x3ED74EEB#32
  | 7 => 0x3DE806C7#32
  | 8 => 0x3F27C8AD#32
  | 9 => 0x3F87D177#32
  | 10 => 0x40069754#32
  | 11 => 0x402BB26F#32
  | 12 => 0xBF81B65A#32
  | 13 => 0xBE8021C1#32
  | 14 => 0x40030793#32
  | 15 => 0xBE862E4E#32
  | 16 => 0xBF8C8D02#32
  | 17 => 0x3F106F24#32
  | 18 => 0xBFA6419A#32
  | 19 => 0x3F6FC578#32
  | 20 => 0x3DAB0647#32
  | 21 => 0x3F97166A#32
  | 22 => 0xBE9C35CF#32
  | 23 => 0x3FF85308#32
  | 24 => 0x401EA4B3#32
  | 25 => 0x3E8ACFED#32
  | 26 => 0x3FE92260#32
  | 27 => 0x401B7B55#32
  | 28 => 0x404D6FEC#32
  | 29 => 0x3F8C0094#32
  | 30 => 0xBC04378F#32
  | 31 => 0xBC9AE57D#32
  | 32 => 0x40A1DE31#32
  | 33 => 0x401113D2#32
  | 34 => 0xBED391F3#32
  | 35 => 0x3F8644F9#32
  | 36 => 0x400A2806#32
  | 37 => 0xBF20FCBD#32
  | 38 => 0x40603FAF#32
  | 39 => 0x3F887015#32
  | 40 => 0x3FC8D26A#32
  | 41 => 0x3DF7F95A#32
  | 42 => 0x3F77A8F8#32
  | 43 => 0xBF0EFFBC#32
  | 44 => 0xBECA99D3#32
  | 45 => 0x3EC7B7C7#32
  | 46 => 0x3F0D6CFC#32
  | 47 => 0x4034AF5E#32
  | 48 => 0x3F184CD3#32
  | 49 => 0x3E3FD497#32
  | 50 => 0x3DDDB245#32
  | 51 => 0x3F7A6AA6#32
  | 52 => 0x3EBEF2D1#32
  | 53 => 0xBE30357B#32
  | 54 => 0x3FAFD7C2#32
  | 55 => 0x3FE41D9F#32
  | 56 => 0x3ECC286C#32
  | 57 => 0xBE18B197#32
  | 58 => 0x3F921D6C#32
  | 59 => 0x3DE2907C#32
  | 60 => 0x3F8FC57F#32
  | 61 => 0xBDF6EB88#32
  | 62 => 0xBE7BD216#32
  | 63 => 0x3FC653A0#32
  | 64 => 0xBF05443E#32
  | 65 => 0xBE254243#32
  | 66 => 0xBF2D3418#32
  | 67 => 0xBF737B2E#32
  | 68 => 0xBDE7717E#32
  | 69 => 0x3E877DA3#32
  | 70 => 0x3EC3DEE6#32
  | 71 => 0x3FD39DEE#32
  | 72 => 0x3F944699#32
  | 73 => 0xBFD6AE3C#32
  | 74 => 0xBEB64352#32
  | 75 => 0xBDD65892#32
  | 76 => 0xBF6CA7B8#32
  | 77 => 0xBE99AAF8#32
  | 78 => 0xBF9A4877#32
  | 79 => 0x3CF96D0B#32
  | 80 => 0x40ABDFE4#32
  | 81 => 0x3F94E25F#32
  | 82 => 0x3FB00082#32
  | 83 => 0xBDB63D47#32
  | 84 => 0x3F83AFD6#32
  | 85 => 0x3FD5494F#32
  | 86 => 0xBDC43EAD#32
  | 87 => 0x3F4B40FF#32
  | 88 => 0xBF7272C7#32
  | 89 => 0xBED119D4#32
  | 90 => 0x3F7654AA#32
  | 91 => 0x3FE65641#32
  | 92 => 0x3EFE5F1C#32
  | 93 => 0x403D9EA2#32
  | 94 => 0x3FAD6D1D#32
  | 95 => 0xC0067F26#32
  | 96 => 0xBECF570C#32
  | 97 => 0x3FBB7A02#32
  | 98 => 0x3F26DA1D#32
  | 99 => 0x40461124#32
  | 100 => 0xBE80AEFB#32
  | 101 => 0x3EE9F629#32
  | 102 => 0x3ED7BB35#32
  | 103 => 0x3D3ABAE2#32
  | 104 => 0x3F42BF2E#32
  | 105 => 0x3F67CCAF#32
  | 106 => 0x3FFFC196#32
  | 107 => 0xBDD54F36#32
  | 108 => 0x3F2CA14D#32
  | 109 => 0x3F8A4AF8#32
  | 110 => 0x3F9AD0B7#32
  | 111 => 0x3F543511#32
  | 112 => 0xBF09072A#32
  | 113 => 0xBEBCBE12#32
  | 114 => 0x3FF68684#32
  | 115 => 0x4065CA10#32
  | 116 => 0x3F8BF1F5#32
  | 117 => 0x3E8AAC20#32
  | 118 => 0x3F567558#32
  | 119 => 0xBF1942C4#32
  | 120 => 0xBF5C6FDA#32
  | 121 => 0x3F4620FA#32
  | 122 => 0xBF9B4F91#32
  | 123 => 0x3F32C1CF#32
  | 124 => 0x3E27F2D7#32
  | 125 => 0xBF60258D#32
  | 126 => 0x3FA09889#32
  | 127 => 0xBF23F185#32
  | _ => 0#32

noncomputable abbrev lit0t0_688 (i : Nat) : BitVec 32 := match i % 128 with
  | 0 => 0x4090B678#32
  | 1 => 0x3EF81052#32
  | 2 => 0xBE7CF187#32
  | 3 => 0x3E8E2747#32
  | 4 => 0x3FE42B62#32
  | 5 => 0x3F49E819#32
  | 6 => 0xBF8C9994#32
  | 7 => 0x401559B5#32
  | 8 => 0xBEA20554#32
  | 9 => 0x3D175F91#32
  | 10 => 0xBE94BF2C#32
  | 11 => 0x40840092#32
  | 12 => 0x403BCC91#32
  | 13 => 0x3F526EB6#32
  | 14 => 0xBE5AF12A#32
  | 15 => 0x3F77A729#32
  | 16 => 0xBF50FD20#32
  | 17 => 0x3E879714#32
  | 18 => 0xBF22BA73#32
  | 19 => 0xBF7F8C5A#32
  | 20 => 0xBF1DD80A#32
  | 21 => 0xBEEE35CC#32
  | 22 => 0x3EC47269#32
  | 23 => 0x3F24E0C2#32
  | 24 => 0x4005ECFA#32
  | 25 => 0xBEED6CE8#32
  | 26 => 0x3F818328#32
  | 27 => 0x3D5479FD#32
  | 28 => 0x400AB914#32
  | 29 => 0x3F341BBC#32
  | 30 => 0xBF8FE806#32
  | 31 => 0x3F0CB133#32
  | 32 => 0xBEA05D00#32
  | 33 => 0xBF40699E#32
  | 34 => 0x3F2CF6C6#32
  | 35 => 0xBE8A5791#32
  | 36 => 0x400C332B#32
  | 37 => 0x3FA15958#32
  | 38 => 0x3EA90C3E#32
  | 39 => 0xBF444C0D#32
  | 40 => 0x40456D91#32
  | 41 => 0x3F162CB9#32
  | 42 => 0x3D9ECC2E#32
  | 43 => 0x3F127C2B#32
  | 44 => 0xBEDD2A40#32
  | 45 => 0x3F9F8E67#32
  | 46 => 0x3DB1C27D#32
  | 47 => 0x3F3E20AF#32
  | 48 => 0x3F0794BF#32
  | 49 => 0xBF5A6CF6#32
  | 50 => 0xBF3D1310#32
  | 51 => 0x3E2EE8B7#32
  | 52 => 0x3FFB5FF5#32
  | 53 => 0x401D257A#32
  | 54 => 0x3FBAA761#32
  | 55 => 0xBEB550F6#32
  | 56 => 0xBF83409C#32
  | 57 => 0x3E30D990#32
  | 58 => 0x3EB5015B#32
  | 59 => 0xBF4FBE8D#32
  | 60 => 0xBF7D3A63#32
  | 61 => 0x3E56179B#32
  | 62 => 0x3F064ED6#32
  | 63 => 0x3F43B361#32
  | 64 => 0xBF03A524#32
  | 65 => 0x3FBF719A#32
  | 66 => 0x3E15ABF6#32
  | 67 => 0xBD0DE66F#32
  | 68 => 0xBBBF7E7A#32
  | 69 => 0xBF1924FF#32
  | 70 => 0xBF8B57DA#32
  | 71 => 0xBDA3A494#32
  | 72 => 0x4065BDD7#32
  | 73 => 0x3EA2A35E#32
  | 74 => 0xBEF28D7C#32
  | 75 => 0x3E443677#32
  | 76 => 0xBF69CF4F#32
  | 77 => 0xBE11E23F#32
  | 78 => 0xBF3C83F0#32
  | 79 => 0x3DEDAF12#32
  | 80 => 0xBE34BB5D#32
  | 81 => 0xBF08F573#32
  | 82 => 0xBEA2A247#32
  | 83 => 0x4039CA5E#32
  | 84 => 0x3FD584CA#32
  | 85 => 0x3FCACB04#32
  | 86 => 0xBF6E22D3#32
  | 87 => 0xBE213347#32
  | 88 => 0xBE6A5EC6#32
  | 89 => 0xBE1E465E#32
  | 90 => 0xBF5F04CA#32
  | 91 => 0xBE153B79#32
  | 92 => 0xBDF1A67F#32
  | 93 => 0x3FDBD538#32
  | 94 => 0xBEF24EC3#32
  | 95 => 0x3F491C9E#32
  | 96 => 0xBDB4F674#32
  | 97 => 0xBF947127#32
  | 98 => 0xBEE04CD1#32
  | 99 => 0x4061B548#32
  | 100 => 0xBEFFDF90#32
  | 101 => 0x3FE746BB#32
  | 102 => 0x3F302C56#32
  | 103 => 0xBEC23A67#32
  | 104 => 0x3F389FC2#32
  | 105 => 0x4036CDEC#32
  | 106 => 0xBFC319DA#32
  | 107 => 0xBF599E87#32
  | 108 => 0x3FC9B9AC#32
  | 109 => 0x3EBB6620#32
  | 110 => 0x412ACAD1#32
  | 111 => 0xBFACD770#32
  | 112 => 0x402D748C#32
  | 113 => 0x3F72BA29#32
  | 114 => 0x40063535#32
  | 115 => 0x3F332366#32
  | 116 => 0x3CF4E06E#32
  | 117 => 0xBEAD0070#32
  | 118 => 0xBFA68EB3#32
  | 119 => 0xBFB80F80#32
  | 120 => 0x3E2B42AE#32
  | 121 => 0x3F388B8F#32
  | 122 => 0x3F29554E#32
  | 123 => 0x3F5B3A90#32
  | 124 => 0x3F4ED66B#32
  | 125 => 0x3F8ACB73#32
  | 126 => 0x3EDF2C4B#32
  | 127 => 0x3EBF7E3F#32
  | _ => 0#32

noncomputable abbrev lit0t0_689 (i : Nat) : BitVec 32 := match i % 128 with
  | 0 => 0xBF9918D4#32
  | 1 => 0x3E385DAE#32
  | 2 => 0x3F0DD46C#32
  | 3 => 0x3FA8E66B#32
  | 4 => 0xBF2A27EE#32
  | 5 => 0x3EC60ACA#32
  | 6 => 0x3F6BF49E#32
  | 7 => 0x400D14E0#32
  | 8 => 0xBE3805EC#32
  | 9 => 0xBED96E5C#32
  | 10 => 0x3DB7A195#32
  | 11 => 0x3D237E0D#32
  | 12 => 0x3F804956#32
  | 13 => 0x3FACC95A#32
  | 14 => 0x4041CFF3#32
  | 15 => 0x404F5B4D#32
  | 16 => 0xBF2BFAB1#32
  | 17 => 0x3FB481BE#32
  | 18 => 0x409D3E79#32
  | 19 => 0x3E0DCA72#32
  | 20 => 0x3FB0CB19#32
  | 21 => 0xBF5D8110#32
  | 22 => 0x3F43B49C#32
  | 23 => 0x3FE3AE7A#32
  | 24 => 0x3F9C6C29#32
  | 25 => 0x3F3AC23C#32
  | 26 => 0xBEAB4301#32
  | 27 => 0xBE35D982#32
  | 28 => 0xBDE909B9#32
  | 29 => 0xBDBA5FBB#32
  | 30 => 0xBF11BA9E#32
  | 31 => 0x3F46A2F7#32
  | 32 => 0x3EBB55CE#32
  | 33 => 0x3E18F614#32
  | 34 => 0x3F0E4130#32
  | 35 => 0xBEC8B4ED#32
  | 36 => 0x3FEC123F#32
  | 37 => 0x3FA65420#32
  | 38 => 0x3FCE03AD#32
  | 39 => 0x3F6B9EB7#32
  | 40 => 0x3F71CE86#32
  | 41 => 0x3F857FFF#32
  | 42 => 0xBF14AE6E#32
  | 43 => 0xBEBF8573#32
  | 44 => 0x3FFADDCD#32
  | 45 => 0xBE042FF0#32
  | 46 => 0xBF920930#32
  | 47 => 0x4019D796#32
  | 48 => 0x3F94D3DA#32
  | 49 => 0xBF6A957E#32
  | 50 => 0x3F33BA25#32
  | 51 => 0x40AAC806#32
  | 52 => 0x3FC9CF96#32
  | 53 => 0x3F1A56F3#32
  | 54 => 0xBEBE40CE#32
  | 55 => 0xBEEC4E15#32
  | 56 => 0xBF4BBDF1#32
  | 57 => 0x3FA82415#32
  | 58 => 0x3FF47110#32
  | 59 => 0x3FB19CA9#32
  | 60 => 0xBFA444C2#32
  | 61 => 0x3F6D1FAB#32
  | 62 => 0x4079A269#32
  | 63 => 0xBE8F3386#32
  | 64 => 0x403A2518#32
  | 65 => 0x3F8D4FBB#32
  | 66 => 0xBF0451CE#32
  | 67 => 0xBF0DBC10#32
  | 68 => 0x3E801774#32
  | 69 => 0xBEDCA88D#32
  | 70 => 0x3FF9476A#32
  | 71 => 0xBEF49B6E#32
  | 72 => 0x3F1C7376#32
  | 73 => 0x3EB34499#32
  | 74 => 0x3FF4B598#32
  | 75 => 0xBEBE4941#32
  | 76 => 0xBF6BD47E#32
  | 77 => 0x3F89F462#32
  | 78 => 0x3F3A5D08#32
  | 79 => 0xBDB9FFAF#32
  | 80 => 0x3F1906CD#32
  | 81 => 0x3F071FC3#32
  | 82 => 0x4010110F#32
  | 83 => 0xBE6EDD51#32
  | 84 => 0x3EC06402#32
  | 85 => 0x3F1FB807#32
  | 86 => 0x3FA2BDF6#32
  | 87 => 0xBD4CAD0A#32
  | 88 => 0xBEA10DBC#32
  | 89 => 0x3FCAE42A#32
  | 90 => 0xBF58D1F8#32
  | 91 => 0x3DCC0A87#32
  | 92 => 0x3E9AF862#32
  | 93 => 0x3C0D2736#32
  | 94 => 0x3F2EC510#32
  | 95 => 0x3F603E60#32
  | 96 => 0x3F0F91F9#32
  | 97 => 0xBF22ED52#32
  | 98 => 0xBE3B4ED9#32
  | 99 => 0xBFBCAD7C#32
  | 100 => 0xBE4E7284#32
  | 101 => 0xBDE99004#32
  | 102 => 0xBF24B4B7#32
  | 103 => 0x3F9BA08D#32
  | 104 => 0x3EEE532C#32
  | 105 => 0xBF203752#32
  | 106 => 0x40350749#32
  | 107 => 0x3E1938C7#32
  | 108 => 0x3EE79464#32
  | 109 => 0x3F99C4E2#32
  | 110 => 0x3D520B0D#32
  | 111 => 0x3F4CBF73#32
  | 112 => 0xBF91EA32#32
  | 113 => 0xBF8A101C#32
  | 114 => 0xBBA9CD2E#32
  | 115 => 0xBF38E213#32
  | 116 => 0x3F7A0198#32
  | 117 => 0x4000EF67#32
  | 118 => 0x3F631B3F#32
  | 119 => 0xBF0BC665#32
  | 120 => 0x3F9D0FC5#32
  | 121 => 0xBDB06443#32
  | 122 => 0x4014767A#32
  | 123 => 0x3F14B48A#32
  | 124 => 0xBB98B4C5#32
  | 125 => 0xBF8A858E#32
  | 126 => 0xBF5C9F42#32
  | 127 => 0x3F07A0F6#32
  | _ => 0#32

noncomputable abbrev lit0t0_690 (i : Nat) : BitVec 32 := match i % 128 with
  | 0 => 0x3FE5930C#32
  | 1 => 0x3FD7F7B3#32
  | 2 => 0xBFC215CD#32
  | 3 => 0x3FE02861#32
  | 4 => 0x3F778DA6#32
  | 5 => 0xBF095248#32
  | 6 => 0x3F991EE2#32
  | 7 => 0x3FCD63B2#32
  | 8 => 0x3FC43558#32
  | 9 => 0xBF289C83#32
  | 10 => 0x4031A1EE#32
  | 11 => 0x3F802B3C#32
  | 12 => 0x3EA497CA#32
  | 13 => 0xBF3DC6AB#32
  | 14 => 0xBFE6D646#32
  | 15 => 0xBE73E434#32
  | 16 => 0x3EBDD65C#32
  | 17 => 0x400122B6#32
  | 18 => 0xBDDFA5EF#32
  | 19 => 0x3FB3E762#32
  | 20 => 0xBF804F30#32
  | 21 => 0x405A190B#32
  | 22 => 0x3E993372#32
  | 23 => 0x3EAA663D#32
  | 24 => 0x3FB2F516#32
  | 25 => 0x3F8AA9A6#32
  | 26 => 0x3EA420A4#32
  | 27 => 0xBF79E46A#32
  | 28 => 0xBE149E30#32
  | 29 => 0x3F991183#32
  | 30 => 0x3F5171AB#32
  | 31 => 0x4062F83C#32
  | 32 => 0x3F84D450#32
  | 33 => 0xBE22CD19#32
  | 34 => 0x3FCC3CE6#32
  | 35 => 0x3E7CC48C#32
  | 36 => 0xBF0AF5DA#32
  | 37 => 0xBD21FF3D#32
  | 38 => 0xBEA32358#32
  | 39 => 0x40C94B13#32
  | 40 => 0x3FB18698#32
  | 41 => 0x4043E317#32
  | 42 => 0xBECD7E37#32
  | 43 => 0x3F7D4186#32
  | 44 => 0xBEB4C0D7#32
  | 45 => 0xBF696B72#32
  | 46 => 0xBECD8504#32
  | 47 => 0x3F1C5F78#32
  | 48 => 0x3E335BC7#32
  | 49 => 0xBEC7BABE#32
  | 50 => 0x4000D846#32
  | 51 => 0x3F8BB0AE#32
  | 52 => 0xBF45594E#32
  | 53 => 0x3F654D25#32
  | 54 => 0xBF3BA75F#32
  | 55 => 0xBF459574#32
  | 56 => 0xBE129FE9#32
  | 57 => 0xBF44444E#32
  | 58 => 0x409E7906#32
  | 59 => 0x3E649E35#32
  | 60 => 0xBE8C2DDA#32
  | 61 => 0x3F42F047#32
  | 62 => 0x3F1E85E1#32
  | 63 => 0xBE38254E#32
  | 64 => 0xBF9AB0ED#32
  | 65 => 0xBF44C830#32
  | 66 => 0x3F096C4A#32
  | 67 => 0xBE53BCC4#32
  | 68 => 0x3FC48656#32
  | 69 => 0x3F5007C5#32
  | 70 => 0xBF61CFDF#32
  | 71 => 0x3F8CB949#32
  | 72 => 0xBF1ED82F#32
  | 73 => 0x40801A11#32
  | 74 => 0x3F1AE329#32
  | 75 => 0x400D02DF#32
  | 76 => 0x3FD6912B#32
  | 77 => 0x40D4DFBB#32
  | 78 => 0x3E88D6EA#32
  | 79 => 0x3F29DD58#32
  | 80 => 0xBE9B27F5#32
  | 81 => 0x3F277AA1#32
  | 82 => 0xBDBCFC07#32
  | 83 => 0xBF0689A3#32
  | 84 => 0x3FA5B016#32
  | 85 => 0x3FE34B18#32
  | 86 => 0x3F8F5E5E#32
  | 87 => 0xBF46E177#32
  | 88 => 0xBF785CC0#32
  | 89 => 0x3E222700#32
  | 90 => 0xBEF0AF23#32
  | 91 => 0x3F38C382#32
  | 92 => 0xBF6FA293#32
  | 93 => 0xBE361339#32
  | 94 => 0xBD7F3ADB#32
  | 95 => 0x4024AB0A#32
  | 96 => 0x3EF6D308#32
  | 97 => 0x3E6089FB#32
  | 98 => 0x3F5C9102#32
  | 99 => 0xBEB0883B#32
  | 100 => 0xBEC681C0#32
  | 101 => 0x3C49B694#32
  | 102 => 0xBFA29299#32
  | 103 => 0x3EE1A770#32
  | 104 => 0x40351BD8#32
  | 105 => 0x3F020224#32
  | 106 => 0xBFA39118#32
  | 107 => 0x3DEB64F3#32
  | 108 => 0x3F9CE7A2#32
  | 109 => 0xBF6F262F#32
  | 110 => 0x3F98628C#32
  | 111 => 0x3FD3E5F3#32
  | 112 => 0xBF8005B9#32
  | 113 => 0xBF0BE55A#32
  | 114 => 0x40528756#32
  | 115 => 0x3F5AFD75#32
  | 116 => 0x3FBBFF93#32
  | 117 => 0x3E209781#32
  | 118 => 0xBE2C4C02#32
  | 119 => 0x3FAA93AA#32
  | 120 => 0x3FB48CB7#32
  | 121 => 0x3F7B78D0#32
  | 122 => 0x4087D813#32
  | 123 => 0xBF34C2A6#32
  | 124 => 0x3EC13BC7#32
  | 125 => 0x3EAB288C#32
  | 126 => 0xBF780566#32
  | 127 => 0xBD28AB23#32
  | _ => 0#32

noncomputable abbrev lit0t0_691 (i : Nat) : BitVec 32 := match i % 128 with
  | 0 => 0xBF7A7193#32
  | 1 => 0x3E2E420F#32
  | 2 => 0xBFB7BBB6#32
  | 3 => 0x3FE21E3C#32
  | 4 => 0xBF8A981A#32
  | 5 => 0x40075C7F#32
  | 6 => 0xBF2AA0C3#32
  | 7 => 0xBEB7ADD9#32
  | 8 => 0xBE59D5FB#32
  | 9 => 0xBF6F2A4A#32
  | 10 => 0x40004506#32
  | 11 => 0x3F484F97#32
  | 12 => 0x40078A38#32
  | 13 => 0xBF9BA84E#32
  | 14 => 0x3BF6AC17#32
  | 15 => 0xBEA4F050#32
  | 16 => 0x3FC6D2D0#32
  | 17 => 0x3E8317F4#32
  | 18 => 0x3FD6797C#32
  | 19 => 0x3FB6B16D#32
  | 20 => 0x3E2CBF89#32
  | 21 => 0x401FA4D6#32
  | 22 => 0x3F781E3D#32
  | 23 => 0x3E5C3EAD#32
  | 24 => 0xBC9057C9#32
  | 25 => 0x3F6FE91C#32
  | 26 => 0xBFBCA38E#32
  | 27 => 0x3ED4DC9C#32
  | 28 => 0xBF1C65E2#32
  | 29 => 0x3EF9DCDE#32
  | 30 => 0xBF31A281#32
  | 31 => 0x3F2842E0#32
  | 32 => 0xBDC5FCBC#32
  | 33 => 0x3F7C06C0#32
  | 34 => 0x3F9CB9E8#32
  | 35 => 0x3EBCC387#32
  | 36 => 0xBF317EEE#32
  | 37 => 0xBF0EB5EA#32
  | 38 => 0x3F2C8A5C#32
  | 39 => 0xBE5F9BA9#32
  | 40 => 0x3F69B872#32
  | 41 => 0x3F36A2E5#32
  | 42 => 0xBF6ACB48#32
  | 43 => 0x3F1E6064#32
  | 44 => 0xBF006A4E#32
  | 45 => 0x3E8400F7#32
  | 46 => 0x3E94DB1D#32
  | 47 => 0xBFEDC8F4#32
  | 48 => 0x3FAA15F4#32
  | 49 => 0xBE9059E1#32
  | 50 => 0x3F5AA6E0#32
  | 51 => 0x3FE7D4DE#32
  | 52 => 0x3EE11677#32
  | 53 => 0xBF98AC01#32
  | 54 => 0x3F9E1DDB#32
  | 55 => 0xBFB0F43A#32
  | 56 => 0x3FC33C61#32
  | 57 => 0x3F9EB100#32
  | 58 => 0x405AD1DD#32
  | 59 => 0xBF596F0A#32
  | 60 => 0x3F280926#32
  | 61 => 0x4031E3A2#32
  | 62 => 0x3F936BFF#32
  | 63 => 0x3FC23207#32
  | 64 => 0xBFAEF5CB#32
  | 65 => 0xBE594A79#32
  | 66 => 0x3F55958D#32
  | 67 => 0xBF47811B#32
  | 68 => 0xBF414254#32
  | 69 => 0xBCC642D6#32
  | 70 => 0x3F96AA65#32
  | 71 => 0x3F336A01#32
  | 72 => 0x3F1D4783#32
  | 73 => 0x3F7205E0#32
  | 74 => 0x3F5EBD24#32
  | 75 => 0x3FCC68E1#32
  | 76 => 0x3F7C0AB4#32
  | 77 => 0x4001A521#32
  | 78 => 0xBF0C5865#32
  | 79 => 0xBF286BA5#32
  | 80 => 0xBD0980BD#32
  | 81 => 0x400AFBDC#32
  | 82 => 0x3E1879B1#32
  | 83 => 0xBE8A13B8#32
  | 84 => 0x3F851F33#32
  | 85 => 0xBEA5C1EE#32
  | 86 => 0x3FD2599C#32
  | 87 => 0x3F8ED27D#32
  | 88 => 0x3E0AF8EB#32
  | 89 => 0x40145771#32
  | 90 => 0xBFA17057#32
  | 91 => 0x40098246#32
  | 92 => 0x3F4F858D#32
  | 93 => 0x403EAF25#32
  | 94 => 0x3F315242#32
  | 95 => 0x3F6A0508#32
  | 96 => 0x3DC62B46#32
  | 97 => 0x3E1D6896#32
  | 98 => 0xBC8F3B13#32
  | 99 => 0x3DE6A6CF#32
  | 100 => 0x3E82FE86#32
  | 101 => 0x3F6C5941#32
  | 102 => 0x40436BDA#32
  | 103 => 0xBF466A42#32
  | 104 => 0x4072436E#32
  | 105 => 0x3F99103C#32
  | 106 => 0xBEA5B1FD#32
  | 107 => 0xBF263A2C#32
  | 108 => 0x3FA05224#32
  | 109 => 0xBEEE2543#32
  | 110 => 0xBF071173#32
  | 111 => 0x3F5B41F0#32
  | 112 => 0x400A0FDF#32
  | 113 => 0xBF98D030#32
  | 114 => 0x3F268E73#32
  | 115 => 0xBECA197C#32
  | 116 => 0x3F4C23DC#32
  | 117 => 0xBDBCC75E#32
  | 118 => 0x3E3D22A7#32
  | 119 => 0x40C93927#32
  | 120 => 0xBF4672DF#32
  | 121 => 0x3D83E5C7#32
  | 122 => 0x3F8D1027#32
  | 123 => 0x40102193#32
  | 124 => 0x3E666FA8#32
  | 125 => 0xBF56D0B0#32
  | 126 => 0xBF127B81#32
  | 127 => 0x3EDAEA31#32
  | _ => 0#32

noncomputable abbrev lit0t0_692 (i : Nat) : BitVec 32 := match i % 128 with
  | 0 => 0x3ECB52FE#32
  | 1 => 0x3F6B9824#32
  | 2 => 0xBDB4FB60#32
  | 3 => 0x3F498482#32
  | 4 => 0x3FA824B7#32
  | 5 => 0x3FC58864#32
  | 6 => 0x3D5A725F#32
  | 7 => 0xBE957C9D#32
  | 8 => 0xBE830FB2#32
  | 9 => 0x3D9E88AE#32
  | 10 => 0x4003783F#32
  | 11 => 0x403001BB#32
  | 12 => 0x3FE4354E#32
  | 13 => 0x3F90F602#32
  | 14 => 0xBEA3F67A#32
  | 15 => 0x40D2192B#32
  | 16 => 0xBDB7A694#32
  | 17 => 0x40BCAACC#32
  | 18 => 0xBF83A10B#32
  | 19 => 0x3F5BBE98#32
  | 20 => 0x3F236D01#32
  | 21 => 0xBE954DE7#32
  | 22 => 0x40194BA4#32
  | 23 => 0xBE32BF65#32
  | 24 => 0xBF607014#32
  | 25 => 0xBF6B6D5D#32
  | 26 => 0x4022FB7C#32
  | 27 => 0xBF0A6E25#32
  | 28 => 0x3FC10D8E#32
  | 29 => 0x3F3AE547#32
  | 30 => 0x3F3F82DD#32
  | 31 => 0xBF6754EA#32
  | 32 => 0x3F951E46#32
  | 33 => 0x3F232825#32
  | 34 => 0x3F35084F#32
  | 35 => 0x4016317A#32
  | 36 => 0xBDDBA9AE#32
  | 37 => 0x3F6721D0#32
  | 38 => 0xBF263835#32
  | 39 => 0x3CBBC07C#32
  | 40 => 0x403B0BF7#32
  | 41 => 0xBFA074A8#32
  | 42 => 0x3F66A470#32
  | 43 => 0x3FC3F7DF#32
  | 44 => 0xBBB1B965#32
  | 45 => 0x3F3A0715#32
  | 46 => 0xBD8FD6D5#32
  | 47 => 0xBF382CB7#32
  | 48 => 0x40B3874C#32
  | 49 => 0x3F3843C3#32
  | 50 => 0x4053452F#32
  | 51 => 0x3C031BAF#32
  | 52 => 0xBDE0205A#32
  | 53 => 0x40569660#32
  | 54 => 0xBF4606E4#32
  | 55 => 0x3E224620#32
  | 56 => 0xBEF4C4B2#32
  | 57 => 0x4030A50F#32
  | 58 => 0xBCE6C86E#32
  | 59 => 0x400C3CE0#32
  | 60 => 0xBE73E8EF#32
  | 61 => 0xBF036A88#32
  | 62 => 0x403774C7#32
  | 63 => 0x3F5E763A#32
  | 64 => 0xBF938795#32
  | 65 => 0x3EA37EA9#32
  | 66 => 0xBE53E7F7#32
  | 67 => 0x3FBA3C78#32
  | 68 => 0x3FBB416C#32
  | 69 => 0xBE9974AD#32
  | 70 => 0xBFD4F5ED#32
  | 71 => 0xBE85DCAF#32
  | 72 => 0xBF4042B1#32
  | 73 => 0xBF371095#32
  | 74 => 0x3FA9EB03#32
  | 75 => 0x3DC80F22#32
  | 76 => 0x404CEB83#32
  | 77 => 0xBF0C7268#32
  | 78 => 0x4022EA9D#32
  | 79 => 0x3D859811#32
  | 80 => 0xBF9CEE3E#32
  | 81 => 0x3E2841A6#32
  | 82 => 0x3F3E9C53#32
  | 83 => 0x403C44C7#32
  | 84 => 0xBFA6ADD3#32
  | 85 => 0x3FBBD28C#32
  | 86 => 0x3FE69176#32
  | 87 => 0xBF5F062E#32
  | 88 => 0x3F8D89FC#32
  | 89 => 0x3E3FEAB7#32
  | 90 => 0xBE0BFA0C#32
  | 91 => 0x3F2CE782#32
  | 92 => 0x3F9592B6#32
  | 93 => 0x40156286#32
  | 94 => 0xBF1651B8#32
  | 95 => 0x3F7A7F96#32
  | 96 => 0x4008F48F#32
  | 97 => 0x3EE47FD2#32
  | 98 => 0xBFCAA13D#32
  | 99 => 0x3FD30260#32
  | 100 => 0x3E9876B2#32
  | 101 => 0x3F0EA0DC#32
  | 102 => 0xBF473B0E#32
  | 103 => 0x40548F86#32
  | 104 => 0x3F98F85E#32
  | 105 => 0xBF4A590D#32
  | 106 => 0x3F41E96C#32
  | 107 => 0x40068367#32
  | 108 => 0x4005668F#32
  | 109 => 0x3F784A7B#32
  | 110 => 0x3F7AE81A#32
  | 111 => 0x3F2B6D24#32
  | 112 => 0xBE907586#32
  | 113 => 0x3F47A171#32
  | 114 => 0x3F648600#32
  | 115 => 0x40315DD9#32
  | 116 => 0xBDB09818#32
  | 117 => 0x3FF8FD3B#32
  | 118 => 0xBEE63CCA#32
  | 119 => 0x3F53DD7A#32
  | 120 => 0x3F976D19#32
  | 121 => 0x3F6263DC#32
  | 122 => 0xBF19C20B#32
  | 123 => 0x3F9B2190#32
  | 124 => 0x3E4486AF#32
  | 125 => 0xBDCBF2F0#32
  | 126 => 0x3F692B8E#32
  | 127 => 0x3F2FA371#32
  | _ => 0#32

noncomputable abbrev lit0t0_693 (i : Nat) : BitVec 32 := match i % 128 with
  | 0 => 0x3F563FE4#32
  | 1 => 0x3F816845#32
  | 2 => 0x3E0B5249#32
  | 3 => 0x3FDEB8BD#32
  | 4 => 0x3F625A50#32
  | 5 => 0x3E039C11#32
  | 6 => 0x3EC3CF7F#32
  | 7 => 0x3F7FBC71#32
  | 8 => 0x3FE692BE#32
  | 9 => 0x4031A856#32
  | 10 => 0x402CF878#32
  | 11 => 0xBF246105#32
  | 12 => 0x40081ED2#32
  | 13 => 0xBF6F3464#32
  | 14 => 0x3F36B13E#32
  | 15 => 0x3E88AADB#32
  | 16 => 0xBF995F8B#32
  | 17 => 0x4005F40E#32
  | 18 => 0x3F48760F#32
  | 19 => 0xBF9F5F4D#32
  | 20 => 0xBF0A0184#32
  | 21 => 0x3FDC984D#32
  | 22 => 0x40372048#32
  | 23 => 0x3FC27742#32
  | 24 => 0x401E07D9#32
  | 25 => 0xBF0357E4#32
  | 26 => 0xBE6A9E60#32
  | 27 => 0x3F1ED5C8#32
  | 28 => 0x3F657D6A#32
  | 29 => 0xBF71C702#32
  | 30 => 0x3F8919A8#32
  | 31 => 0x3F779264#32
  | 32 => 0x3FE60D4F#32
  | 33 => 0x3F2B314A#32
  | 34 => 0xBF3417BC#32
  | 35 => 0xBF8ADCE8#32
  | 36 => 0x3FD1A83E#32
  | 37 => 0x3F149CAB#32
  | 38 => 0xBF13685B#32
  | 39 => 0x3F7D6628#32
  | 40 => 0xBD8B99C4#32
  | 41 => 0x3E8A204B#32
  | 42 => 0x3FF6061A#32
  | 43 => 0x3ED093BB#32
  | 44 => 0xBF5F8768#32
  | 45 => 0x4004D50C#32
  | 46 => 0x40457AA0#32
  | 47 => 0x401FD70B#32
  | 48 => 0x3EC0E0F4#32
  | 49 => 0x4080F098#32
  | 50 => 0xBF8E5D64#32
  | 51 => 0x3FD0F65B#32
  | 52 => 0xBF7F4F66#32
  | 53 => 0xBF08895D#32
  | 54 => 0xBF122577#32
  | 55 => 0x3E697A9C#32
  | 56 => 0x3FC38A2A#32
  | 57 => 0x403525A4#32
  | 58 => 0xBF988180#32
  | 59 => 0xBFB71D11#32
  | 60 => 0x3FB0482F#32
  | 61 => 0x3FCE13B6#32
  | 62 => 0x403C15D4#32
  | 63 => 0xBE966FDD#32
  | 64 => 0x3ED23E85#32
  | 65 => 0x3F751AF3#32
  | 66 => 0xBFDF2CAF#32
  | 67 => 0xBF1B3B60#32
  | 68 => 0x3EB75788#32
  | 69 => 0xBF769CF1#32
  | 70 => 0x40496CA2#32
  | 71 => 0x40059FBA#32
  | 72 => 0x3F9560E2#32
  | 73 => 0x400D5DCA#32
  | 74 => 0x3ED3E4B2#32
  | 75 => 0x3F9D95BF#32
  | 76 => 0x3FCB1F1E#32
  | 77 => 0x40219A45#32
  | 78 => 0x3D89FD48#32
  | 79 => 0x3E9A298A#32
  | 80 => 0x3FD11A95#32
  | 81 => 0x3F530E43#32
  | 82 => 0x3F079178#32
  | 83 => 0x3F9DB093#32
  | 84 => 0x3F87ECF2#32
  | 85 => 0xBF96191B#32
  | 86 => 0x3FBADA85#32
  | 87 => 0x3E0E0243#32
  | 88 => 0x3FB2FD29#32
  | 89 => 0x401555FA#32
  | 90 => 0x3F2BD3B9#32
  | 91 => 0xBF763DCE#32
  | 92 => 0x3FA99706#32
  | 93 => 0x3DFB5375#32
  | 94 => 0x40499D4A#32
  | 95 => 0xBF63FF0E#32
  | 96 => 0x3FC342A6#32
  | 97 => 0x3F6E4619#32
  | 98 => 0x3F0BDF34#32
  | 99 => 0xBDF86F79#32
  | 100 => 0x3BEBA666#32
  | 101 => 0xBF8A27E3#32
  | 102 => 0xBF1B84C6#32
  | 103 => 0xBEF282A0#32
  | 104 => 0x400D3CD5#32
  | 105 => 0x3EBB48A6#32
  | 106 => 0x405BA00D#32
  | 107 => 0xBF3C873B#32
  | 108 => 0x40480C3A#32
  | 109 => 0x3FECDD76#32
  | 110 => 0x3DDD96EF#32
  | 111 => 0xBF047770#32
  | 112 => 0xBE8AD68F#32
  | 113 => 0xBEB4BE78#32
  | 114 => 0x3F21B7E0#32
  | 115 => 0xBEB10F7E#32
  | 116 => 0x3F8C8DF4#32
  | 117 => 0x3E4CB901#32
  | 118 => 0xBF7149F0#32
  | 119 => 0x3DF0409C#32
  | 120 => 0xBF104096#32
  | 121 => 0xBF3B84F5#32
  | 122 => 0x3E181317#32
  | 123 => 0xBDA4D27F#32
  | 124 => 0x3FB0837D#32
  | 125 => 0x3E440972#32
  | 126 => 0xBF62BE2E#32
  | 127 => 0xBF37C35D#32
  | _ => 0#32

noncomputable abbrev lit0t0_694 (i : Nat) : BitVec 32 := match i % 128 with
  | 0 => 0x3F5AA9AF#32
  | 1 => 0xBF64319A#32
  | 2 => 0x3F5B49F4#32
  | 3 => 0xBEED3D35#32
  | 4 => 0xBE90D2F3#32
  | 5 => 0x3FFB436C#32
  | 6 => 0xBF192D27#32
  | 7 => 0x3FBDAC87#32
  | 8 => 0x3EC34A4E#32
  | 9 => 0x3F0A3F5E#32
  | 10 => 0x3DD89320#32
  | 11 => 0xBF9D88B1#32
  | 12 => 0xBEBA0819#32
  | 13 => 0xBE6523EB#32
  | 14 => 0xBF712894#32
  | 15 => 0xBF88742D#32
  | 16 => 0xBF1D6B9E#32
  | 17 => 0x3F0EDCF3#32
  | 18 => 0xBF9BCEB9#32
  | 19 => 0xBEAE167A#32
  | 20 => 0x3ECFEDF5#32
  | 21 => 0x3F4A3262#32
  | 22 => 0xBF997934#32
  | 23 => 0xBCD22F48#32
  | 24 => 0x408D51B1#32
  | 25 => 0x3FCAB60C#32
  | 26 => 0x400E0287#32
  | 27 => 0xBEC7B9D2#32
  | 28 => 0xBEAF370B#32
  | 29 => 0xBF5A9288#32
  | 30 => 0x3E93A61B#32
  | 31 => 0x3F6DC5B4#32
  | 32 => 0x3ED2258E#32
  | 33 => 0x3F9AF9F8#32
  | 34 => 0x3FA4E0A2#32
  | 35 => 0x4037A2B2#32
  | 36 => 0x3FEE361C#32
  | 37 => 0x3E55A742#32
  | 38 => 0x3FC419BD#32
  | 39 => 0xBF8DA2F1#32
  | 40 => 0xBF9D18B5#32
  | 41 => 0x4017B107#32
  | 42 => 0xBE16B8BD#32
  | 43 => 0x400C1312#32
  | 44 => 0xBF7D7DD5#32
  | 45 => 0x3F460298#32
  | 46 => 0xBF563B47#32
  | 47 => 0x3EE6FE72#32
  | 48 => 0x407895F5#32
  | 49 => 0xBFAA3BCF#32
  | 50 => 0x3FE22394#32
  | 51 => 0xBE1BF8E1#32
  | 52 => 0x3F206F73#32
  | 53 => 0xBE0E0A33#32
  | 54 => 0x3F35B82B#32
  | 55 => 0x3E7543A3#32
  | 56 => 0x4009B999#32
  | 57 => 0xBF6E4095#32
  | 58 => 0x3F944BC2#32
  | 59 => 0xBF0DB50E#32
  | 60 => 0x3E39CFF0#32
  | 61 => 0xBF0490C5#32
  | 62 => 0x404D915C#32
  | 63 => 0xBF34DD86#32
  | 64 => 0xBE305265#32
  | 65 => 0xBEEC2C03#32
  | 66 => 0xBF2CE0A9#32
  | 67 => 0x3EC3093A#32
  | 68 => 0x3F0BDCFC#32
  | 69 => 0x3FB0989F#32
  | 70 => 0x405F724F#32
  | 71 => 0x4005FCD1#32
  | 72 => 0xBE79670D#32
  | 73 => 0x3E8D89CB#32
  | 74 => 0x40906138#32
  | 75 => 0x402AE0C3#32
  | 76 => 0x3E4024FE#32
  | 77 => 0x3E27CE02#32
  | 78 => 0x400DA7DF#32
  | 79 => 0x3F02B532#32
  | 80 => 0xBEA41CF0#32
  | 81 => 0x3FD2ECF0#32
  | 82 => 0xBE7BED1D#32
  | 83 => 0xBF93A181#32
  | 84 => 0x4091EB7C#32
  | 85 => 0x3F8426B7#32
  | 86 => 0x3E81BF9B#32
  | 87 => 0x3FC08013#32
  | 88 => 0x400D7BB4#32
  | 89 => 0x40788152#32
  | 90 => 0x3FAF01D9#32
  | 91 => 0x40899DCE#32
  | 92 => 0x4047426D#32
  | 93 => 0xBF54C42D#32
  | 94 => 0x3CAC5EC1#32
  | 95 => 0xBF3F6790#32
  | 96 => 0xBF8BD639#32
  | 97 => 0x3F312276#32
  | 98 => 0x3F80A5C9#32
  | 99 => 0x4050A27E#32
  | 100 => 0xBF61C7A6#32
  | 101 => 0x3F617A71#32
  | 102 => 0x3E32268F#32
  | 103 => 0x3F5C30A6#32
  | 104 => 0x3FDC0FFA#32
  | 105 => 0xBEF29ECA#32
  | 106 => 0xBECEEF38#32
  | 107 => 0x3F90B78E#32
  | 108 => 0x3F40A35E#32
  | 109 => 0x3FB0BBEF#32
  | 110 => 0xBE8F6487#32
  | 111 => 0x3ED61DBC#32
  | 112 => 0x3E3275AC#32
  | 113 => 0x3F83C402#32
  | 114 => 0x3F20831C#32
  | 115 => 0x3FE51CFE#32
  | 116 => 0x3FF518D5#32
  | 117 => 0x40278C5F#32
  | 118 => 0x3F5B5F55#32
  | 119 => 0x403DC449#32
  | 120 => 0x3FB7A9ED#32
  | 121 => 0x3FB9B6F4#32
  | 122 => 0x3F810144#32
  | 123 => 0x3F532308#32
  | 124 => 0xBF7F3D0F#32
  | 125 => 0xBEB937DE#32
  | 126 => 0xBF3478D1#32
  | 127 => 0xBF50E3A1#32
  | _ => 0#32

noncomputable abbrev lit0t0_695 (i : Nat) : BitVec 32 := match i % 128 with
  | 0 => 0x400745EE#32
  | 1 => 0xBFA9D989#32
  | 2 => 0xBD9D5930#32
  | 3 => 0x3F0F29FF#32
  | 4 => 0x3E10EA5D#32
  | 5 => 0x3FD52BE7#32
  | 6 => 0x3ECEA016#32
  | 7 => 0x3ED31421#32
  | 8 => 0xBF4C9020#32
  | 9 => 0x3D211898#32
  | 10 => 0x3EB9B7A0#32
  | 11 => 0x3EC835A8#32
  | 12 => 0x4037E627#32
  | 13 => 0x409767AA#32
  | 14 => 0xBE7682FF#32
  | 15 => 0x4028D9AC#32
  | 16 => 0x3E8FAB24#32
  | 17 => 0xBF7C10E7#32
  | 18 => 0x3E9D8A02#32
  | 19 => 0xBFB15D77#32
  | 20 => 0x3D831FF1#32
  | 21 => 0x3F649A34#32
  | 22 => 0x407C79FA#32
  | 23 => 0x3E8B4DCB#32
  | 24 => 0x3F76A9E9#32
  | 25 => 0x3DEB39B1#32
  | 26 => 0xBE2CFD7B#32
  | 27 => 0xBF498839#32
  | 28 => 0x3FA22102#32
  | 29 => 0xBEB7C552#32
  | 30 => 0x3FD95A68#32
  | 31 => 0xBCD437EF#32
  | 32 => 0x4006930C#32
  | 33 => 0xBE578A37#32
  | 34 => 0xBF7CF634#32
  | 35 => 0x3E19D9DE#32
  | 36 => 0x3FA0CD2A#32
  | 37 => 0x3FB4C3D1#32
  | 38 => 0x4081ED73#32
  | 39 => 0x3F2C1D8A#32
  | 40 => 0x3EDBE109#32
  | 41 => 0x3FC7F725#32
  | 42 => 0x3F8D020F#32
  | 43 => 0x3F423268#32
  | 44 => 0x3EEDE51B#32
  | 45 => 0x3F806E7A#32
  | 46 => 0x3F52F5BC#32
  | 47 => 0xBE35EB0A#32
  | 48 => 0x3FEFD7B9#32
  | 49 => 0xBF130A98#32
  | 50 => 0x4052BF73#32
  | 51 => 0xBEC3CA40#32
  | 52 => 0xBBEB9AA6#32
  | 53 => 0xBF7D09AD#32
  | 54 => 0xBF468D81#32
  | 55 => 0x3E5CECB8#32
  | 56 => 0xBEB23E71#32
  | 57 => 0xBE40BB75#32
  | 58 => 0x3F0935B4#32
  | 59 => 0xBE9F7640#32
  | 60 => 0x3FCF63E1#32
  | 61 => 0x3FE38246#32
  | 62 => 0x3FDFFEFC#32
  | 63 => 0xBEAFE00F#32
  | 64 => 0x40204900#32
  | 65 => 0x3F00459C#32
  | 66 => 0x400ACD37#32
  | 67 => 0x3F4C0023#32
  | 68 => 0x3EE8D198#32
  | 69 => 0x3F26DEF5#32
  | 70 => 0x404C6BB2#32
  | 71 => 0x3EF31FAA#32
  | 72 => 0xBF2C1488#32
  | 73 => 0x3F98C5B8#32
  | 74 => 0xBEADABB4#32
  | 75 => 0x3F8C5BB2#32
  | 76 => 0x403079E1#32
  | 77 => 0x3EF16328#32
  | 78 => 0x3D7603AA#32
  | 79 => 0xBEBA6FEC#32
  | 80 => 0x3F3809BB#32
  | 81 => 0x3F495CE0#32
  | 82 => 0x3FFB5F48#32
  | 83 => 0x3F8C929E#32
  | 84 => 0x402FE4BC#32
  | 85 => 0x40B5AE42#32
  | 86 => 0xBE1E9303#32
  | 87 => 0x4020E47C#32
  | 88 => 0x40091104#32
  | 89 => 0x3E27B9E3#32
  | 90 => 0x3F319659#32
  | 91 => 0x3FE7820D#32
  | 92 => 0x3FB03415#32
  | 93 => 0xBDDD39F1#32
  | 94 => 0x3F720E98#32
  | 95 => 0x3F99F93E#32
  | 96 => 0xBFCC9DCF#32
  | 97 => 0x3FFD624D#32
  | 98 => 0xBFAE507E#32
  | 99 => 0xBE341856#32
  | 100 => 0x3E5AD778#32
  | 101 => 0x3E976C71#32
  | 102 => 0xBE9A6BEF#32
  | 103 => 0xBF87879E#32
  | 104 => 0x3EC0694C#32
  | 105 => 0xBF565E76#32
  | 106 => 0x3EFA9FC4#32
  | 107 => 0x3ED71171#32
  | 108 => 0x3ED1E60B#32
  | 109 => 0x4010E4FE#32
  | 110 => 0xBF6A97F8#32
  | 111 => 0x3EC92BEE#32
  | 112 => 0x3F32E24E#32
  | 113 => 0xBE986AF2#32
  | 114 => 0x3C1961BA#32
  | 115 => 0x3F72F2A4#32
  | 116 => 0x3F6FF7A0#32
  | 117 => 0xBE5A7E99#32
  | 118 => 0x3FB5148A#32
  | 119 => 0xBF9A4772#32
  | 120 => 0x3F0F7A12#32
  | 121 => 0x3FB8F928#32
  | 122 => 0x3F33285C#32
  | 123 => 0x3F17EB00#32
  | 124 => 0x3E8C467C#32
  | 125 => 0x3F837E48#32
  | 126 => 0x3F6DD2CC#32
  | 127 => 0xBE9DAFA0#32
  | _ => 0#32

noncomputable abbrev lit0t0_696 (i : Nat) : BitVec 32 := match i % 128 with
  | 0 => 0x3E27574E#32
  | 1 => 0xBF1636E7#32
  | 2 => 0x407D4CE7#32
  | 3 => 0x3F02CD6C#32
  | 4 => 0xBE8DB550#32
  | 5 => 0x3F23E4EB#32
  | 6 => 0x3F8ECD86#32
  | 7 => 0x3DA77D2B#32
  | 8 => 0x3DD2F2D8#32
  | 9 => 0xBE7376DC#32
  | 10 => 0xBF8A6DBA#32
  | 11 => 0xBF5C95BF#32
  | 12 => 0x3FB586FB#32
  | 13 => 0x4019C8AA#32
  | 14 => 0x3FC55A20#32
  | 15 => 0x3FC3DAE5#32
  | 16 => 0xBFA0164E#32
  | 17 => 0x3EB4173A#32
  | 18 => 0x3FE5A34E#32
  | 19 => 0xBD3A49A6#32
  | 20 => 0x3E3E0B09#32
  | 21 => 0xBE65B243#32
  | 22 => 0x3F6BD7E3#32
  | 23 => 0xBF2A3267#32
  | 24 => 0x3FA44337#32
  | 25 => 0x3FEFD3C8#32
  | 26 => 0x40495282#32
  | 27 => 0x401082B9#32
  | 28 => 0x3F66C24C#32
  | 29 => 0x3E97BEEA#32
  | 30 => 0x40C2BC42#32
  | 31 => 0x3F073ABC#32
  | 32 => 0x3F920758#32
  | 33 => 0x3FC3B08D#32
  | 34 => 0xBF13D2EA#32
  | 35 => 0xBFAE95B5#32
  | 36 => 0x3E177462#32
  | 37 => 0xBECA87CC#32
  | 38 => 0x3FA0A32E#32
  | 39 => 0xBE019C27#32
  | 40 => 0xBF7F2E1E#32
  | 41 => 0xBF1D418E#32
  | 42 => 0x40312EC3#32
  | 43 => 0x3FAB9360#32
  | 44 => 0x3F93775E#32
  | 45 => 0x3F40E188#32
  | 46 => 0x3F177902#32
  | 47 => 0x3FEB7E88#32
  | 48 => 0x3F2F5E68#32
  | 49 => 0x3F819BB5#32
  | 50 => 0x3FC4BF84#32
  | 51 => 0x3EE6BB7A#32
  | 52 => 0x3FF5B1A3#32
  | 53 => 0xBE6862EE#32
  | 54 => 0xBF52BDFE#32
  | 55 => 0xBEE4845D#32
  | 56 => 0x3EDBBC75#32
  | 57 => 0x3FAD47E9#32
  | 58 => 0x3EC4BED8#32
  | 59 => 0x403129AA#32
  | 60 => 0x402B4C0D#32
  | 61 => 0xBE4A713E#32
  | 62 => 0x3FA98DF0#32
  | 63 => 0x3FC4ACD3#32
  | 64 => 0x3F37C37E#32
  | 65 => 0xBF1F7F8F#32
  | 66 => 0x3EEDCD3C#32
  | 67 => 0x3E3C960D#32
  | 68 => 0x3E394B13#32
  | 69 => 0xBEABDD4E#32
  | 70 => 0x3F759FBE#32
  | 71 => 0x3F15127E#32
  | 72 => 0x40534DA8#32
  | 73 => 0xBD1A0C85#32
  | 74 => 0x3FDD8B92#32
  | 75 => 0x3D8290F8#32
  | 76 => 0x3FCCFB6F#32
  | 77 => 0xBF85B80B#32
  | 78 => 0xBED5B02D#32
  | 79 => 0xBE6016D1#32
  | 80 => 0x3FBA8BAD#32
  | 81 => 0xBF2A4055#32
  | 82 => 0xBF12F60B#32
  | 83 => 0xBF5BE1A1#32
  | 84 => 0x3EFD8446#32
  | 85 => 0x3EEC9DCD#32
  | 86 => 0x3F4C9FE6#32
  | 87 => 0x409C44D8#32
  | 88 => 0x3FB2A6DC#32
  | 89 => 0x3CF464CB#32
  | 90 => 0x3F843C39#32
  | 91 => 0xBF738D10#32
  | 92 => 0x3DECADBE#32
  | 93 => 0xBED49123#32
  | 94 => 0xBF2628B5#32
  | 95 => 0xBF99B22D#32
  | 96 => 0x3EA8D243#32
  | 97 => 0xBEE1CAAA#32
  | 98 => 0xBF984740#32
  | 99 => 0x3F9DB723#32
  | 100 => 0xBD1EE553#32
  | 101 => 0x3FAC8BE4#32
  | 102 => 0x3F37EC3D#32
  | 103 => 0x3FF00774#32
  | 104 => 0x3F274ED1#32
  | 105 => 0x3F9D32E3#32
  | 106 => 0xBF275B00#32
  | 107 => 0x3F2D09C7#32
  | 108 => 0x3F8ABC84#32
  | 109 => 0xBFDDC4A5#32
  | 110 => 0xBEBB9D96#32
  | 111 => 0x3F01BBFD#32
  | 112 => 0x3F2F18E4#32
  | 113 => 0xBF0444D8#32
  | 114 => 0x409EFA0E#32
  | 115 => 0xBFEFD026#32
  | 116 => 0x3FC2AB11#32
  | 117 => 0xBEE2BEC1#32
  | 118 => 0xBDE45543#32
  | 119 => 0xBE1F84C4#32
  | 120 => 0x3F178DB5#32
  | 121 => 0x3C08286F#32
  | 122 => 0x3F407B4C#32
  | 123 => 0x3F9EAE0B#32
  | 124 => 0x3EC7D9B6#32
  | 125 => 0x3F6016B1#32
  | 126 => 0x3F87D517#32
  | 127 => 0xBE1B80D8#32
  | _ => 0#32

noncomputable abbrev lit0t0_697 (i : Nat) : BitVec 32 := match i % 128 with
  | 0 => 0x3F4EA9FA#32
  | 1 => 0xBF1066BC#32
  | 2 => 0x3F579C56#32
  | 3 => 0x3FF46F23#32
  | 4 => 0x3FD00410#32
  | 5 => 0xBECAEEC5#32
  | 6 => 0x3DFA9FF0#32
  | 7 => 0xBD62E098#32
  | 8 => 0x409AD9E5#32
  | 9 => 0x3F8FC093#32
  | 10 => 0x3F0492EC#32
  | 11 => 0xBF41AAAA#32
  | 12 => 0x3FC0F030#32
  | 13 => 0x3F18938E#32
  | 14 => 0x3EF9ED4A#32
  | 15 => 0xBFB2DCB5#32
  | 16 => 0x3FFF8040#32
  | 17 => 0x3FB174CB#32
  | 18 => 0x3F4165CF#32
  | 19 => 0xBE878B7C#32
  | 20 => 0x3E4E8711#32
  | 21 => 0x40B611F0#32
  | 22 => 0x3D15FD46#32
  | 23 => 0x3FB2E640#32
  | 24 => 0x3EBF725C#32
  | 25 => 0x3F624CDA#32
  | 26 => 0xBD93B4CC#32
  | 27 => 0xBF65D8F4#32
  | 28 => 0x3EDF40BC#32
  | 29 => 0x402483F8#32
  | 30 => 0xBF970A0E#32
  | 31 => 0x3F759632#32
  | 32 => 0xBE964F3F#32
  | 33 => 0xBDFC9975#32
  | 34 => 0x3F3ED3D5#32
  | 35 => 0x3EFE89D2#32
  | 36 => 0x3F32F4B3#32
  | 37 => 0xBF48EBCB#32
  | 38 => 0x3FD61E7F#32
  | 39 => 0xBED46425#32
  | 40 => 0x3FC09531#32
  | 41 => 0x40150AE6#32
  | 42 => 0x3F633925#32
  | 43 => 0x40167C19#32
  | 44 => 0x3E489D42#32
  | 45 => 0x3ED0735A#32
  | 46 => 0x3FD27844#32
  | 47 => 0x3EA18EA8#32
  | 48 => 0x3F85D069#32
  | 49 => 0xBF8BE5A1#32
  | 50 => 0x3F116D6F#32
  | 51 => 0xBF959708#32
  | 52 => 0xBDDF96B1#32
  | 53 => 0x407D594F#32
  | 54 => 0x3F8E77A6#32
  | 55 => 0x4011E3A0#32
  | 56 => 0x3E4C1F8C#32
  | 57 => 0x3F67E8B4#32
  | 58 => 0xBF70627C#32
  | 59 => 0xBFAB8A00#32
  | 60 => 0xBFA46FB5#32
  | 61 => 0xBF5FF9DD#32
  | 62 => 0xBF2BD46D#32
  | 63 => 0x3F2E7832#32
  | 64 => 0x3E8EFCB1#32
  | 65 => 0xBE89B136#32
  | 66 => 0x3FF8A038#32
  | 67 => 0xBF81238E#32
  | 68 => 0xBF76424C#32
  | 69 => 0x40113D7C#32
  | 70 => 0x3F45043D#32
  | 71 => 0xBE95C4EA#32
  | 72 => 0x3F8436D6#32
  | 73 => 0x4029BF46#32
  | 74 => 0x40824390#32
  | 75 => 0x3DD76D59#32
  | 76 => 0x3DCE70F6#32
  | 77 => 0x3F11F60D#32
  | 78 => 0x3F4AB635#32
  | 79 => 0x3FD0B31F#32
  | 80 => 0x3EEC0750#32
  | 81 => 0x3E8EAD85#32
  | 82 => 0x3F558EA8#32
  | 83 => 0x3FB6B806#32
  | 84 => 0xBEF7A02A#32
  | 85 => 0x3FBAEA32#32
  | 86 => 0xBE72FDBE#32
  | 87 => 0x3FBD112E#32
  | 88 => 0x3E4C71AF#32
  | 89 => 0xBDB1B71A#32
  | 90 => 0x3F9B9937#32
  | 91 => 0xBF1D5C20#32
  | 92 => 0xBECF1B20#32
  | 93 => 0x40546F07#32
  | 94 => 0x3FCFFB0E#32
  | 95 => 0x3F554614#32
  | 96 => 0x3FC67B0A#32
  | 97 => 0x3E3194B0#32
  | 98 => 0x3F81FE3C#32
  | 99 => 0xBE464997#32
  | 100 => 0xBE0D8650#32
  | 101 => 0x3F1C297E#32
  | 102 => 0xBE9F7419#32
  | 103 => 0xBF1EE407#32
  | 104 => 0x3F20A047#32
  | 105 => 0xBF304315#32
  | 106 => 0x3FC2DD2A#32
  | 107 => 0xBF926BFE#32
  | 108 => 0xBF0C6964#32
  | 109 => 0x40816D53#32
  | 110 => 0xBDC13869#32
  | 111 => 0x3E21F930#32
  | 112 => 0x3EBD449E#32
  | 113 => 0xBF97F9E9#32
  | 114 => 0xBF90A458#32
  | 115 => 0xBEE68E28#32
  | 116 => 0x4003B40B#32
  | 117 => 0x403B2364#32
  | 118 => 0x3EC5FFE5#32
  | 119 => 0x4014FE2C#32
  | 120 => 0x3FE1FA54#32
  | 121 => 0x3F91ADDA#32
  | 122 => 0xBE9E7631#32
  | 123 => 0x3EC62A5D#32
  | 124 => 0xBEE7CFB4#32
  | 125 => 0x3FA2F3F7#32
  | 126 => 0x3E9DC7F3#32
  | 127 => 0x3DC1E4E9#32
  | _ => 0#32

noncomputable abbrev lit0t0_698 (i : Nat) : BitVec 32 := match i % 128 with
  | 0 => 0x3F6A9ADC#32
  | 1 => 0xBEB9019F#32
  | 2 => 0x400CD1E0#32
  | 3 => 0x4006E83E#32
  | 4 => 0x3FDDAC7D#32
  | 5 => 0x3F6F8A2A#32
  | 6 => 0x3EAB09DF#32
  | 7 => 0x3F5B6634#32
  | 8 => 0xBD0526A9#32
  | 9 => 0x3FE67E20#32
  | 10 => 0xBEEC9515#32
  | 11 => 0x3F44632D#32
  | 12 => 0xBF20F825#32
  | 13 => 0xBEFFA7E3#32
  | 14 => 0x3E501BFC#32
  | 15 => 0xBF86C95B#32
  | 16 => 0x3F1E2BCF#32
  | 17 => 0xBE8E2BB2#32
  | 18 => 0x3FCFB8C9#32
  | 19 => 0x400211C7#32
  | 20 => 0x3ECF7F90#32
  | 21 => 0xBEF4BB20#32
  | 22 => 0xBF07A896#32
  | 23 => 0xBF044BE6#32
  | 24 => 0x3FA68352#32
  | 25 => 0xBE668BFE#32
  | 26 => 0xBE141DE1#32
  | 27 => 0x3EF10964#32
  | 28 => 0x3F56227E#32
  | 29 => 0x4081C93B#32
  | 30 => 0xBE9F46C6#32
  | 31 => 0x40078E8F#32
  | 32 => 0xBF42BA89#32
  | 33 => 0x3F4CE93A#32
  | 34 => 0x3F8301A8#32
  | 35 => 0x3F042260#32
  | 36 => 0xBF925112#32
  | 37 => 0xBEBDD546#32
  | 38 => 0x3F96315D#32
  | 39 => 0x3F875B2D#32
  | 40 => 0x3E142C7E#32
  | 41 => 0x403E9117#32
  | 42 => 0x40713FF5#32
  | 43 => 0x3FF68956#32
  | 44 => 0xBEF4D696#32
  | 45 => 0xBF1A6AEA#32
  | 46 => 0x3F754DD0#32
  | 47 => 0x3FC11F1D#32
  | 48 => 0xBF3CEDE7#32
  | 49 => 0x3F4FD373#32
  | 50 => 0x3EBCF10E#32
  | 51 => 0xBEA1059D#32
  | 52 => 0x3F07BEDA#32
  | 53 => 0x3F2A2BD6#32
  | 54 => 0xBFEB9F98#32
  | 55 => 0xBF2A895D#32
  | 56 => 0x3E6EBABC#32
  | 57 => 0xBF67E34D#32
  | 58 => 0xBEF43BB9#32
  | 59 => 0xBF702CB8#32
  | 60 => 0xBF8E9DF5#32
  | 61 => 0x3F6563EA#32
  | 62 => 0x3E652E31#32
  | 63 => 0xBFAE4B7C#32
  | 64 => 0xBDA74233#32
  | 65 => 0x4014EEA7#32
  | 66 => 0x3E95C399#32
  | 67 => 0x3F0504DD#32
  | 68 => 0x3E8AF00A#32
  | 69 => 0x4031D4E8#32
  | 70 => 0xBE900634#32
  | 71 => 0x3FF05C93#32
  | 72 => 0x3F9B1F44#32
  | 73 => 0xBE73A92A#32
  | 74 => 0xBE8F5B4E#32
  | 75 => 0x3ECC39BB#32
  | 76 => 0x3F68B024#32
  | 77 => 0xBE85B04B#32
  | 78 => 0xBF6DE67B#32
  | 79 => 0xBD7CC832#32
  | 80 => 0xBF91D7CF#32
  | 81 => 0x3E92DA72#32
  | 82 => 0xBF09B7A6#32
  | 83 => 0xBF2937DA#32
  | 84 => 0xBECA2A04#32
  | 85 => 0x3EB399CE#32
  | 86 => 0xBF5E116A#32
  | 87 => 0xBF32CDA8#32
  | 88 => 0xBF043EC4#32
  | 89 => 0x3EFAC552#32
  | 90 => 0x3EDAB2B0#32
  | 91 => 0xBEC0DC3F#32
  | 92 => 0x3E708137#32
  | 93 => 0x3E628D63#32
  | 94 => 0xBFE069B0#32
  | 95 => 0xBF9014E6#32
  | 96 => 0x3F541C7A#32
  | 97 => 0x3FCFEA1A#32
  | 98 => 0x40441CAD#32
  | 99 => 0x3D197BDE#32
  | 100 => 0x406237F8#32
  | 101 => 0x3E0D568B#32
  | 102 => 0xBF863A84#32
  | 103 => 0xBEE38611#32
  | 104 => 0xBE99DC00#32
  | 105 => 0xC00E1330#32
  | 106 => 0x3F1B6612#32
  | 107 => 0x3F987658#32
  | 108 => 0x3FE1C482#32
  | 109 => 0x3E8D1897#32
  | 110 => 0x3F9876F8#32
  | 111 => 0x3FABFB8B#32
  | 112 => 0x3EE6BE06#32
  | 113 => 0xBF6D06B6#32
  | 114 => 0x3F91EC5C#32
  | 115 => 0x3F8F791F#32
  | 116 => 0xBF67F4A0#32
  | 117 => 0x3F1F296F#32
  | 118 => 0x3FC5D012#32
  | 119 => 0x3F95EA19#32
  | 120 => 0x3ED24108#32
  | 121 => 0xBEF64ED4#32
  | 122 => 0xBE2F7B6E#32
  | 123 => 0x3F98EB63#32
  | 124 => 0xBE37E292#32
  | 125 => 0xBD61655E#32
  | 126 => 0x3E9AEFF9#32
  | 127 => 0xBE1EE5AE#32
  | _ => 0#32

noncomputable abbrev lit0t0_699 (i : Nat) : BitVec 32 := match i % 128 with
  | 0 => 0x3EC2BA92#32
  | 1 => 0x3ECFE631#32
  | 2 => 0x3E6047FA#32
  | 3 => 0x400D46E6#32
  | 4 => 0x3FA1B423#32
  | 5 => 0xBBFF9134#32
  | 6 => 0x3F9B2AFC#32
  | 7 => 0xBF67D7C2#32
  | 8 => 0x3F44C0F3#32
  | 9 => 0x40520AA3#32
  | 10 => 0xBF8BFD05#32
  | 11 => 0x3F0ECCBC#32
  | 12 => 0x3E4F9C98#32
  | 13 => 0xBEE1F087#32
  | 14 => 0xBB8CE35A#32
  | 15 => 0xBF574506#32
  | 16 => 0x3EEDF381#32
  | 17 => 0x4004ABA1#32
  | 18 => 0x40726E9D#32
  | 19 => 0x405A5206#32
  | 20 => 0x3E8A3D94#32
  | 21 => 0x3FD7F2A5#32
  | 22 => 0x4084FBEB#32
  | 23 => 0x3EB25832#32
  | 24 => 0x40539A19#32
  | 25 => 0x3F413E12#32
  | 26 => 0x40B63DD2#32
  | 27 => 0xBFC62F7C#32
  | 28 => 0x3EF72F28#32
  | 29 => 0x3F12F918#32
  | 30 => 0x3DC460E6#32
  | 31 => 0xBF2CA081#32
  | 32 => 0x400CE48A#32
  | 33 => 0x3EB640A4#32
  | 34 => 0xBECC56B9#32
  | 35 => 0x3F90D4C6#32
  | 36 => 0x3F4D59B6#32
  | 37 => 0xBF80DCF1#32
  | 38 => 0x3FBEA7EF#32
  | 39 => 0x4040B98D#32
  | 40 => 0x3F495152#32
  | 41 => 0xBE894E69#32
  | 42 => 0xBD7B12B2#32
  | 43 => 0x3EC952E7#32
  | 44 => 0xBF7E7900#32
  | 45 => 0xBF06250B#32
  | 46 => 0x3ECE3C6C#32
  | 47 => 0x3FA81D6E#32
  | 48 => 0x3FA1B368#32
  | 49 => 0xBFA7C791#32
  | 50 => 0xBF4AAE91#32
  | 51 => 0x3F3D29D2#32
  | 52 => 0x409A0FCA#32
  | 53 => 0xBF77E7A4#32
  | 54 => 0xBF7C92EC#32
  | 55 => 0xBE2FF576#32
  | 56 => 0xBFB1F2F6#32
  | 57 => 0x3FB17AD0#32
  | 58 => 0x408A2EA3#32
  | 59 => 0x3E43B241#32
  | 60 => 0x3F10B65C#32
  | 61 => 0x4013334F#32
  | 62 => 0x3EFF490E#32
  | 63 => 0xBE138583#32
  | 64 => 0xBF012E6E#32
  | 65 => 0xBF6D5500#32
  | 66 => 0x3E23DEEE#32
  | 67 => 0x3FA31B0A#32
  | 68 => 0x3DB6B7EF#32
  | 69 => 0x3E5EB597#32
  | 70 => 0x3F2440A9#32
  | 71 => 0x3FC34532#32
  | 72 => 0x3E3E2C04#32
  | 73 => 0x40071E21#32
  | 74 => 0x3FB588E9#32
  | 75 => 0x3EA255B9#32
  | 76 => 0xBF9C9A30#32
  | 77 => 0x3FA70352#32
  | 78 => 0x3FB4B48E#32
  | 79 => 0xBF35C142#32
  | 80 => 0x40297993#32
  | 81 => 0xBDE54638#32
  | 82 => 0x3FCD7362#32
  | 83 => 0xBEA30312#32
  | 84 => 0x3FE6A9F9#32
  | 85 => 0x3F657DE2#32
  | 86 => 0x3EA01037#32
  | 87 => 0xBFA78B89#32
  | 88 => 0x401C6992#32
  | 89 => 0x3F9C4D92#32
  | 90 => 0x3F0DA61B#32
  | 91 => 0x3E003992#32
  | 92 => 0x3FE29627#32
  | 93 => 0x40A79230#32
  | 94 => 0x3EB5235D#32
  | 95 => 0x3F485F77#32
  | 96 => 0x3F6257C4#32
  | 97 => 0xBFE9D763#32
  | 98 => 0x3EE9B939#32
  | 99 => 0xBF93D409#32
  | 100 => 0xBEB2A22E#32
  | 101 => 0xBDF85205#32
  | 102 => 0x3E0499DC#32
  | 103 => 0x3FA1CE36#32
  | 104 => 0x4066D551#32
  | 105 => 0x3E4C06B7#32
  | 106 => 0x3F5FFA6D#32
  | 107 => 0x3F49357F#32
  | 108 => 0xBEA7E9C6#32
  | 109 => 0x400AAE94#32
  | 110 => 0xBF7B5896#32
  | 111 => 0xBEAF286D#32
  | 112 => 0xBF844409#32
  | 113 => 0x3FDEC622#32
  | 114 => 0x3FE2BBBA#32
  | 115 => 0x3F65CABB#32
  | 116 => 0xBECFF575#32
  | 117 => 0xBF2962C9#32
  | 118 => 0x3FBA5146#32
  | 119 => 0x3E722DEF#32
  | 120 => 0x3F88758A#32
  | 121 => 0x40070F55#32
  | 122 => 0xBDA6C49F#32
  | 123 => 0x3FC31BC9#32
  | 124 => 0xBF60113E#32
  | 125 => 0xBE66D6B6#32
  | 126 => 0xBF907E4B#32
  | 127 => 0x402F2110#32
  | _ => 0#32

noncomputable abbrev lit0t0_700 (i : Nat) : BitVec 32 := match i % 128 with
  | 0 => 0x3FC3EBFD#32
  | 1 => 0x3F7F3458#32
  | 2 => 0xBF26FB05#32
  | 3 => 0x3E33C361#32
  | 4 => 0x3E9DE37B#32
  | 5 => 0xBE205EA6#32
  | 6 => 0x3E180B1D#32
  | 7 => 0x408896B7#32
  | 8 => 0x3EABEA39#32
  | 9 => 0xBF6837FA#32
  | 10 => 0x3FF557F9#32
  | 11 => 0x3ED4E813#32
  | 12 => 0x3FCD0FA9#32
  | 13 => 0x3C001A5F#32
  | 14 => 0x3FD6250C#32
  | 15 => 0xBDB098C9#32
  | 16 => 0x3F7C5209#32
  | 17 => 0xBF804885#32
  | 18 => 0xBFCE7822#32
  | 19 => 0xBF602605#32
  | 20 => 0xBF2E564F#32
  | 21 => 0x3F89ED66#32
  | 22 => 0x3FFA740F#32
  | 23 => 0xBF15AEB8#32
  | 24 => 0xBF89322D#32
  | 25 => 0x3F9D281C#32
  | 26 => 0xBE72271D#32
  | 27 => 0xBC531DCB#32
  | 28 => 0xBE3D41B6#32
  | 29 => 0x3EE87738#32
  | 30 => 0xBE961ABB#32
  | 31 => 0xBEF5D2A2#32
  | 32 => 0xBFA02EAB#32
  | 33 => 0x3FF05116#32
  | 34 => 0xBF2500C3#32
  | 35 => 0x3F8A4717#32
  | 36 => 0x401FB471#32
  | 37 => 0x3DC29039#32
  | 38 => 0xBFA1D69B#32
  | 39 => 0x4072C9C0#32
  | 40 => 0x3F9E3252#32
  | 41 => 0x3F317882#32
  | 42 => 0xBF6B8F65#32
  | 43 => 0xBF151FB4#32
  | 44 => 0xBEF25676#32
  | 45 => 0x3E71E65E#32
  | 46 => 0x3FA93D18#32
  | 47 => 0x3E965D8E#32
  | 48 => 0x3FEF51F1#32
  | 49 => 0x3FAB65E4#32
  | 50 => 0x3ED65EE3#32
  | 51 => 0x3F7A041A#32
  | 52 => 0xBFB81BB6#32
  | 53 => 0x40643C3C#32
  | 54 => 0x3FDE4E3F#32
  | 55 => 0x3F8017E9#32
  | 56 => 0x3F43CD64#32
  | 57 => 0xBF850312#32
  | 58 => 0x3E4ADC40#32
  | 59 => 0x3F13FBF8#32
  | 60 => 0x3F91691C#32
  | 61 => 0x3E39D0CC#32
  | 62 => 0x400EFA28#32
  | 63 => 0xBEB5473E#32
  | 64 => 0x3FEFD654#32
  | 65 => 0x3FE26534#32
  | 66 => 0x3FF8C8B7#32
  | 67 => 0xBF24A2E8#32
  | 68 => 0xBF97C31B#32
  | 69 => 0x3F3C8F16#32
  | 70 => 0x3E992638#32
  | 71 => 0xBF76CB04#32
  | 72 => 0x3FD8AB9F#32
  | 73 => 0xBFB71B8A#32
  | 74 => 0x3DC8CED1#32
  | 75 => 0xBFCA1ADD#32
  | 76 => 0x4018E86A#32
  | 77 => 0x3FA87560#32
  | 78 => 0x3FBAB475#32
  | 79 => 0x3DBE9F28#32
  | 80 => 0x40273B00#32
  | 81 => 0xBFA1253C#32
  | 82 => 0xBF3575D8#32
  | 83 => 0x3FF258EC#32
  | 84 => 0x403129E4#32
  | 85 => 0xBE2EA3AF#32
  | 86 => 0x3FD4DE37#32
  | 87 => 0x3FB98AD1#32
  | 88 => 0x3FCACE3A#32
  | 89 => 0xBE303039#32
  | 90 => 0x3D3D4BB9#32
  | 91 => 0xBF876911#32
  | 92 => 0x40043E17#32
  | 93 => 0x3FEE5351#32
  | 94 => 0x3F5495C7#32
  | 95 => 0x3F4B96EF#32
  | 96 => 0x3FFD43B2#32
  | 97 => 0x4006824D#32
  | 98 => 0x3F11C249#32
  | 99 => 0x3FCD8968#32
  | 100 => 0x3F913554#32
  | 101 => 0x3D22B300#32
  | 102 => 0xBF421640#32
  | 103 => 0x3F832FE8#32
  | 104 => 0xBF2A701F#32
  | 105 => 0xBF2C9B09#32
  | 106 => 0x3FCF26B5#32
  | 107 => 0x3FF8894E#32
  | 108 => 0x3F555E5E#32
  | 109 => 0x3F77C8FD#32
  | 110 => 0x3F80177F#32
  | 111 => 0x3F16E29A#32
  | 112 => 0x3F21721F#32
  | 113 => 0x3E9167BD#32
  | 114 => 0xBF5249EC#32
  | 115 => 0xBF286FEA#32
  | 116 => 0xBF84416C#32
  | 117 => 0xBE35EA70#32
  | 118 => 0xBEB0B26A#32
  | 119 => 0xBF7CF911#32
  | 120 => 0x3D7DFB60#32
  | 121 => 0xBF15B7AE#32
  | 122 => 0x3F39CE93#32
  | 123 => 0x406ABEB2#32
  | 124 => 0x3FB25BFB#32
  | 125 => 0x3F1C7304#32
  | 126 => 0x3F585846#32
  | 127 => 0xBF5B2760#32
  | _ => 0#32

noncomputable abbrev lit0t0_701 (i : Nat) : BitVec 32 := match i % 128 with
  | 0 => 0xBE42DE25#32
  | 1 => 0xBECD6C2E#32
  | 2 => 0x3EAF2B1D#32
  | 3 => 0xBC6C26B7#32
  | 4 => 0x3F9240F0#32
  | 5 => 0x3F3E06FA#32
  | 6 => 0x3FABF646#32
  | 7 => 0xBF857BF8#32
  | 8 => 0x401713BE#32
  | 9 => 0x3E3DE98E#32
  | 10 => 0x3F0FE042#32
  | 11 => 0x3FAB6D9A#32
  | 12 => 0x3F884A74#32
  | 13 => 0x408DCF57#32
  | 14 => 0x3F7C135C#32
  | 15 => 0x3EBB5BDA#32
  | 16 => 0xBE7A35AE#32
  | 17 => 0x3F8D9FAA#32
  | 18 => 0xBF4CD24C#32
  | 19 => 0x3EC9B889#32
  | 20 => 0x3E07DD5F#32
  | 21 => 0x40473484#32
  | 22 => 0x3E547743#32
  | 23 => 0x3E915BB6#32
  | 24 => 0x3F9700FB#32
  | 25 => 0xBEE9DDBA#32
  | 26 => 0xBEBA77A9#32
  | 27 => 0x3FEB46FF#32
  | 28 => 0x3F3517CD#32
  | 29 => 0x3F2E9206#32
  | 30 => 0x3FA3316C#32
  | 31 => 0xBEA9A97D#32
  | 32 => 0xBF193DD0#32
  | 33 => 0x3FAA3017#32
  | 34 => 0x4057AC9F#32
  | 35 => 0xBF9F0006#32
  | 36 => 0x40104291#32
  | 37 => 0xBF0F6021#32
  | 38 => 0x3FA17232#32
  | 39 => 0x3FC33F36#32
  | 40 => 0x3FC8E724#32
  | 41 => 0x3E136848#32
  | 42 => 0x404307E2#32
  | 43 => 0xBEEE8C40#32
  | 44 => 0xBF3E3942#32
  | 45 => 0x3FC3F4B6#32
  | 46 => 0x3F8B56A4#32
  | 47 => 0x3F2E1005#32
  | 48 => 0xBEF9FCAB#32
  | 49 => 0xBE007973#32
  | 50 => 0x3FC95852#32
  | 51 => 0x3FC741D1#32
  | 52 => 0x3EEABB26#32
  | 53 => 0x4009A67E#32
  | 54 => 0xBE775A95#32
  | 55 => 0x3F8CAC2E#32
  | 56 => 0x405AA23A#32
  | 57 => 0xBF00A3F2#32
  | 58 => 0xBEC09080#32
  | 59 => 0xBF8EEC20#32
  | 60 => 0x40559834#32
  | 61 => 0x400D185A#32
  | 62 => 0xC0016D86#32
  | 63 => 0x3FEB8F40#32
  | 64 => 0x3E16AF3C#32
  | 65 => 0x3E92ED51#32
  | 66 => 0xBF41BEA4#32
  | 67 => 0xBF1C432F#32
  | 68 => 0x3EF1A9A0#32
  | 69 => 0xBF356519#32
  | 70 => 0x3ECBE8F0#32
  | 71 => 0x3F9A5E42#32
  | 72 => 0xBE16938B#32
  | 73 => 0x3EEA24E0#32
  | 74 => 0x3E359985#32
  | 75 => 0x3F028BC8#32
  | 76 => 0x3FE1BC11#32
  | 77 => 0x3F32605F#32
  | 78 => 0x407F9755#32
  | 79 => 0xBE77573E#32
  | 80 => 0x3F195324#32
  | 81 => 0x3F347A2A#32
  | 82 => 0x3F915614#32
  | 83 => 0x3F2D2EAF#32
  | 84 => 0xBE5FF747#32
  | 85 => 0xBEAD2E67#32
  | 86 => 0x3D8A344F#32
  | 87 => 0xBF8E0C24#32
  | 88 => 0x4097C7AE#32
  | 89 => 0xBF771122#32
  | 90 => 0x3E8607F0#32
  | 91 => 0x40D059CC#32
  | 92 => 0x3E67076F#32
  | 93 => 0x3E36217D#32
  | 94 => 0x400C8F7F#32
  | 95 => 0x3FA3BD75#32
  | 96 => 0xBF37AC11#32
  | 97 => 0x4008E0BD#32
  | 98 => 0x3F56C376#32
  | 99 => 0xBE51D863#32
  | 100 => 0xBEF65BA2#32
  | 101 => 0x3FAC90B5#32
  | 102 => 0x3EC88642#32
  | 103 => 0x3DB21BA8#32
  | 104 => 0x3FBAD412#32
  | 105 => 0xBF553A2F#32
  | 106 => 0xBFD1560D#32
  | 107 => 0x3E80DBF1#32
  | 108 => 0xBEBD8D48#32
  | 109 => 0xBF0F1174#32
  | 110 => 0x3F69D632#32
  | 111 => 0x4046D09A#32
  | 112 => 0x3F1A15E3#32
  | 113 => 0x3F993321#32
  | 114 => 0xBF4E60A8#32
  | 115 => 0x3F50BE17#32
  | 116 => 0xBE6FF26D#32
  | 117 => 0xBD419E52#32
  | 118 => 0xBFB0D9F5#32
  | 119 => 0xBEA61226#32
  | 120 => 0x3F7BA656#32
  | 121 => 0xBDB8699E#32
  | 122 => 0x3E4B8833#32
  | 123 => 0x3F575FB9#32
  | 124 => 0x3FBE5EB3#32
  | 125 => 0xBF88850B#32
  | 126 => 0xBF80040C#32
  | 127 => 0xBF30511A#32
  | _ => 0#32

noncomputable abbrev lit0t0_702 (i : Nat) : BitVec 32 := match i % 128 with
  | 0 => 0xBF55B65F#32
  | 1 => 0xBF15E100#32
  | 2 => 0x40168F64#32
  | 3 => 0xBEE64F32#32
  | 4 => 0xBFBE480B#32
  | 5 => 0xBE0A45FA#32
  | 6 => 0x3F620A0A#32
  | 7 => 0x3D3D0ACC#32
  | 8 => 0x3C052724#32
  | 9 => 0xBF6B686E#32
  | 10 => 0x3F4ED760#32
  | 11 => 0xBEA3D70A#32
  | 12 => 0x407CE53A#32
  | 13 => 0xBDC3C67F#32
  | 14 => 0x3E9193CD#32
  | 15 => 0xBF2AA22B#32
  | 16 => 0x3E30F839#32
  | 17 => 0xBF233483#32
  | 18 => 0x3EC043C6#32
  | 19 => 0xBEAD7A46#32
  | 20 => 0x3F4AE216#32
  | 21 => 0x3F1D976A#32
  | 22 => 0xBEB34E2E#32
  | 23 => 0xBF63616C#32
  | 24 => 0x3F149A21#32
  | 25 => 0xBFC40030#32
  | 26 => 0xBE8F340E#32
  | 27 => 0xBEC69026#32
  | 28 => 0xBD5C022F#32
  | 29 => 0x3E60A8BE#32
  | 30 => 0x40111E41#32
  | 31 => 0x3CBF3430#32
  | 32 => 0x4018D311#32
  | 33 => 0x3F9F3ADA#32
  | 34 => 0xBEDBAFC0#32
  | 35 => 0x3F4DE71E#32
  | 36 => 0xBF1B0CFA#32
  | 37 => 0x3F0B1D3C#32
  | 38 => 0x3F982806#32
  | 39 => 0xBEF3BEDE#32
  | 40 => 0x3EC10990#32
  | 41 => 0xBDE2F436#32
  | 42 => 0x3E8ECCA0#32
  | 43 => 0x3FCC5811#32
  | 44 => 0x3FC60AF3#32
  | 45 => 0xBF9E84A4#32
  | 46 => 0x3F94FCAC#32
  | 47 => 0xBF658228#32
  | 48 => 0x3F24C572#32
  | 49 => 0xBEB0362D#32
  | 50 => 0x3FBB3AF1#32
  | 51 => 0x3E3C6467#32
  | 52 => 0xBE8957BC#32
  | 53 => 0x4025240F#32
  | 54 => 0x3EB3C155#32
  | 55 => 0xBF525300#32
  | 56 => 0xBEFFDF9E#32
  | 57 => 0xBE9C4D4A#32
  | 58 => 0x3F2C1469#32
  | 59 => 0xBF53A53E#32
  | 60 => 0x3F042C0E#32
  | 61 => 0x3F42C9B8#32
  | 62 => 0x3E80A12D#32
  | 63 => 0xBDBD78FF#32
  | 64 => 0x3E3A7E8E#32
  | 65 => 0xBE6D574B#32
  | 66 => 0xBF206502#32
  | 67 => 0x3F1F3D8D#32
  | 68 => 0xBFA73B0C#32
  | 69 => 0x3F8DB45A#32
  | 70 => 0xBF4A4CF9#32
  | 71 => 0x3F70C77F#32
  | 72 => 0x4018C090#32
  | 73 => 0xBE83CCF0#32
  | 74 => 0xBE396CDE#32
  | 75 => 0x3F6D51BE#32
  | 76 => 0x4007D502#32
  | 77 => 0xBE0A13E5#32
  | 78 => 0x3E2BC05B#32
  | 79 => 0xBF89EE5A#32
  | 80 => 0x3FEA4ACE#32
  | 81 => 0x3EA75821#32
  | 82 => 0x3ED42DF3#32
  | 83 => 0xBFAC727C#32
  | 84 => 0x3FCF831F#32
  | 85 => 0xBE23E9FB#32
  | 86 => 0x3F16D892#32
  | 87 => 0x40A54AC7#32
  | 88 => 0x3FBAA538#32
  | 89 => 0x3F11BAF6#32
  | 90 => 0xBE784081#32
  | 91 => 0x3F1FCB23#32
  | 92 => 0x3E8F8DE9#32
  | 93 => 0x3D1D585C#32
  | 94 => 0xBF0C6908#32
  | 95 => 0x3FD33390#32
  | 96 => 0x3FD18D6D#32
  | 97 => 0x3FE99336#32
  | 98 => 0x3F0A1758#32
  | 99 => 0x3F847B07#32
  | 100 => 0x3ECE5346#32
  | 101 => 0x3FC10688#32
  | 102 => 0xBF586A4C#32
  | 103 => 0x3F3CCD9C#32
  | 104 => 0xBFB75BBD#32
  | 105 => 0xBE9E1818#32
  | 106 => 0xBF0EDD87#32
  | 107 => 0xBEDFB491#32
  | 108 => 0x402716A2#32
  | 109 => 0x3F017CCE#32
  | 110 => 0x3E9EA184#32
  | 111 => 0x3F3582C4#32
  | 112 => 0x3F21A9BD#32
  | 113 => 0x3F4EB37F#32
  | 114 => 0x3F90EB49#32
  | 115 => 0xBDD5B2D4#32
  | 116 => 0xBF6EB8DD#32
  | 117 => 0x3E8AEF1E#32
  | 118 => 0x40C3C83E#32
  | 119 => 0x3FF711A1#32
  | 120 => 0x3F7B1D32#32
  | 121 => 0xBF531CAA#32
  | 122 => 0xBF823102#32
  | 123 => 0x3EE1675C#32
  | 124 => 0x40160161#32
  | 125 => 0x40A69F5C#32
  | 126 => 0xBE860E8C#32
  | 127 => 0x40198A23#32
  | _ => 0#32

noncomputable abbrev lit0t0_703 (i : Nat) : BitVec 32 := match i % 128 with
  | 0 => 0xBEAC5F5A#32
  | 1 => 0x3F9BD0A4#32
  | 2 => 0x3DF0155B#32
  | 3 => 0x3FC344E2#32
  | 4 => 0xBFD6D920#32
  | 5 => 0xBF176CE4#32
  | 6 => 0x3FC46F10#32
  | 7 => 0x401542F2#32
  | 8 => 0x3FB8F8A8#32
  | 9 => 0x3FCECF8F#32
  | 10 => 0xBEC2CF7D#32
  | 11 => 0x40291BF2#32
  | 12 => 0xBED1C35B#32
  | 13 => 0x3F255998#32
  | 14 => 0x403314E6#32
  | 15 => 0xBE317366#32
  | 16 => 0x3F5DA774#32
  | 17 => 0xBF4579A7#32
  | 18 => 0x3E9AB632#32
  | 19 => 0x3FB613BD#32
  | 20 => 0xBFA24A2A#32
  | 21 => 0x4005D5CC#32
  | 22 => 0x3E14ECDD#32
  | 23 => 0x3F507A33#32
  | 24 => 0xBF2859AE#32
  | 25 => 0x3F786DCE#32
  | 26 => 0xBD2D8565#32
  | 27 => 0xBE44D9ED#32
  | 28 => 0xBCD0133F#32
  | 29 => 0x40035EAF#32
  | 30 => 0xBE4467E8#32
  | 31 => 0x3F3363D3#32
  | 32 => 0x3FEC159A#32
  | 33 => 0x404DF1E9#32
  | 34 => 0x3EC6D7BD#32
  | 35 => 0x3F3406A1#32
  | 36 => 0xBEDAE50C#32
  | 37 => 0x406B2281#32
  | 38 => 0x3FAC4020#32
  | 39 => 0x40372DEC#32
  | 40 => 0xBF7B8F67#32
  | 41 => 0x3E685D7A#32
  | 42 => 0x3D38EF61#32
  | 43 => 0xBF829E25#32
  | 44 => 0x3F8991BC#32
  | 45 => 0x3F60B696#32
  | 46 => 0x3EAA3D22#32
  | 47 => 0x3F788170#32
  | 48 => 0xBF1011A8#32
  | 49 => 0xBF01EDAC#32
  | 50 => 0xBF89C3C6#32
  | 51 => 0xBF249B2C#32
  | 52 => 0x3F9CE99C#32
  | 53 => 0x3C6A1CA8#32
  | 54 => 0x3E128996#32
  | 55 => 0x3F8E0AB7#32
  | 56 => 0x406AD7C0#32
  | 57 => 0x40B4754B#32
  | 58 => 0x3FAFCBF5#32
  | 59 => 0x3E84F8EA#32
  | 60 => 0x3E756591#32
  | 61 => 0xBEC1FD48#32
  | 62 => 0x3F464EA1#32
  | 63 => 0x3EAE7A95#32
  | 64 => 0x3F94C043#32
  | 65 => 0x3E9E6D45#32
  | 66 => 0x3FA7AC83#32
  | 67 => 0x3E9690CC#32
  | 68 => 0xBE7E5418#32
  | 69 => 0x40088C4A#32
  | 70 => 0xBF9820F0#32
  | 71 => 0x3EA21B0F#32
  | 72 => 0x3F3C8A51#32
  | 73 => 0x4079BA77#32
  | 74 => 0xBE16A3F1#32
  | 75 => 0x3EAC4C4C#32
  | 76 => 0xBEA57CAC#32
  | 77 => 0xBEDD598B#32
  | 78 => 0x3EC49C61#32
  | 79 => 0xBF5BB73F#32
  | 80 => 0x3FE1E712#32
  | 81 => 0xBF399E70#32
  | 82 => 0x3F004A07#32
  | 83 => 0x3FA45260#32
  | 84 => 0x3F8A28B2#32
  | 85 => 0xBEA78E94#32
  | 86 => 0x3E272E19#32
  | 87 => 0x3E5B31B9#32
  | 88 => 0xBFCB2A35#32
  | 89 => 0xBF4ED712#32
  | 90 => 0xBF7D4F6E#32
  | 91 => 0xBF17C86F#32
  | 92 => 0x3FC86D0B#32
  | 93 => 0x3FBEDCA0#32
  | 94 => 0x3F8FF6BC#32
  | 95 => 0xBD64BB34#32
  | 96 => 0x3F645602#32
  | 97 => 0xBD52D9CA#32
  | 98 => 0x3EA50A20#32
  | 99 => 0xBF029199#32
  | 100 => 0x4000FFCF#32
  | 101 => 0x3F982726#32
  | 102 => 0x3F8876CE#32
  | 103 => 0xBEEC1AE1#32
  | 104 => 0x3FD343FC#32
  | 105 => 0xBF0496F4#32
  | 106 => 0x3FFB0BD5#32
  | 107 => 0xBF8578C6#32
  | 108 => 0x400A05FF#32
  | 109 => 0x3EE86625#32
  | 110 => 0x3F0F6F76#32
  | 111 => 0x3EE11E8E#32
  | 112 => 0xBDD76C7C#32
  | 113 => 0x3F4D089A#32
  | 114 => 0x4001B541#32
  | 115 => 0x3FA29326#32
  | 116 => 0xBE27C66C#32
  | 117 => 0x401B77C6#32
  | 118 => 0x3F41E2DE#32
  | 119 => 0x4016C1B4#32
  | 120 => 0x3F24A65F#32
  | 121 => 0x4009C02B#32
  | 122 => 0xBFADC602#32
  | 123 => 0x3F3DD949#32
  | 124 => 0xBEB0B201#32
  | 125 => 0x40B92620#32
  | 126 => 0x3EC5C43E#32
  | 127 => 0x40835E07#32
  | _ => 0#32

noncomputable abbrev lit0t0_704 (i : Nat) : BitVec 32 := match i % 128 with
  | 0 => 0xBEFEEA52#32
  | 1 => 0x3F9E6A1F#32
  | 2 => 0xBE685EA5#32
  | 3 => 0xBEA2DC28#32
  | 4 => 0x3DCF2613#32
  | 5 => 0x3E26B958#32
  | 6 => 0x40086573#32
  | 7 => 0x3F8190EE#32
  | 8 => 0x4008B200#32
  | 9 => 0xBE82C842#32
  | 10 => 0x4039632C#32
  | 11 => 0x3ECD6889#32
  | 12 => 0xBF1223EF#32
  | 13 => 0x3FC49C42#32
  | 14 => 0x40588B6E#32
  | 15 => 0xBEB7BDF7#32
  | 16 => 0xBFA9FA28#32
  | 17 => 0xBFB838D6#32
  | 18 => 0xBE13ACAF#32
  | 19 => 0x3F0FFAC6#32
  | 20 => 0xBF1C9EFD#32
  | 21 => 0x40047E94#32
  | 22 => 0xBF4013BA#32
  | 23 => 0x3FC8BD7E#32
  | 24 => 0x40232D45#32
  | 25 => 0x3F2D6FE8#32
  | 26 => 0xBDC489EA#32
  | 27 => 0x3FEDBEDC#32
  | 28 => 0x3ED8F2A8#32
  | 29 => 0x3E1FBB3D#32
  | 30 => 0xBE3D3097#32
  | 31 => 0x400B8D32#32
  | 32 => 0x3EB2369C#32
  | 33 => 0x3EFC73DC#32
  | 34 => 0xBE55E598#32
  | 35 => 0xBF281DE2#32
  | 36 => 0xBFDE6A6A#32
  | 37 => 0xBF1CF7D0#32
  | 38 => 0x3EBBC64A#32
  | 39 => 0xBF466D21#32
  | 40 => 0x3DF9EAC1#32
  | 41 => 0x3F960717#32
  | 42 => 0x3F2B95E3#32
  | 43 => 0x3E164F9E#32
  | 44 => 0xBE859026#32
  | 45 => 0x3F976305#32
  | 46 => 0x4063038A#32
  | 47 => 0x3E3B4BD6#32
  | 48 => 0x3EDCE9B0#32
  | 49 => 0xBF980616#32
  | 50 => 0x3FB89967#32
  | 51 => 0xBF9CE24E#32
  | 52 => 0x3CCCDAC8#32
  | 53 => 0x3F774FD2#32
  | 54 => 0xBD933710#32
  | 55 => 0x3F6DB71C#32
  | 56 => 0x3F6868BE#32
  | 57 => 0xBF01F684#32
  | 58 => 0x3F31FEBA#32
  | 59 => 0x3FA380DE#32
  | 60 => 0x3FC0231C#32
  | 61 => 0xBFBA2621#32
  | 62 => 0xBCDA34E1#32
  | 63 => 0xBF8A10FD#32
  | 64 => 0x3E92FAB9#32
  | 65 => 0xBF9FA739#32
  | 66 => 0x402CDB7B#32
  | 67 => 0xBFB76F51#32
  | 68 => 0x3F65AF6A#32
  | 69 => 0xBF3BF99E#32
  | 70 => 0xBF26A625#32
  | 71 => 0xBF442382#32
  | 72 => 0xBF12EB44#32
  | 73 => 0xBF044736#32
  | 74 => 0x3FA94EAE#32
  | 75 => 0x3F80FF03#32
  | 76 => 0xBF0B63D1#32
  | 77 => 0xBF10111F#32
  | 78 => 0xBE26452D#32
  | 79 => 0xBE8AA80A#32
  | 80 => 0x400827F1#32
  | 81 => 0xBFE9D804#32
  | 82 => 0x3ECEB440#32
  | 83 => 0x3F421C9E#32
  | 84 => 0x3EFDA56D#32
  | 85 => 0xBF87DADB#32
  | 86 => 0x3ECAF50C#32
  | 87 => 0x3EC9685E#32
  | 88 => 0x3F545DE5#32
  | 89 => 0xBE5B6646#32
  | 90 => 0xBDFAF82C#32
  | 91 => 0x40453BC1#32
  | 92 => 0xBF4F51CE#32
  | 93 => 0x4083F0BE#32
  | 94 => 0x406570EC#32
  | 95 => 0x3F018184#32
  | 96 => 0xBD69C4CC#32
  | 97 => 0xBF61AA38#32
  | 98 => 0xBB876050#32
  | 99 => 0x3F3FECAA#32
  | 100 => 0xBE07EF1E#32
  | 101 => 0x3F3F5202#32
  | 102 => 0x3F419C53#32
  | 103 => 0x3F3A986A#32
  | 104 => 0x3F3A5C6F#32
  | 105 => 0x405BB108#32
  | 106 => 0x408BFD6B#32
  | 107 => 0x3F112220#32
  | 108 => 0xBFF17F96#32
  | 109 => 0x3EE2882C#32
  | 110 => 0x3EEFCFE6#32
  | 111 => 0x3F3A5E15#32
  | 112 => 0x4057FCAF#32
  | 113 => 0xBD18C0EC#32
  | 114 => 0x3DBE9289#32
  | 115 => 0xBF17F58E#32
  | 116 => 0x3F3B1A50#32
  | 117 => 0x3D926F52#32
  | 118 => 0x3D999C41#32
  | 119 => 0x40805955#32
  | 120 => 0xBF6895F6#32
  | 121 => 0xBFA36808#32
  | 122 => 0xBD34CC2F#32
  | 123 => 0xBEEB40C8#32
  | 124 => 0xBD458C3F#32
  | 125 => 0x3F63D79B#32
  | 126 => 0xBE8375F7#32
  | 127 => 0xBF706A40#32
  | _ => 0#32

noncomputable abbrev lit0t0_705 (i : Nat) : BitVec 32 := match i % 128 with
  | 0 => 0x3EFD64E9#32
  | 1 => 0xBF28B8AF#32
  | 2 => 0x3FDA3D16#32
  | 3 => 0x3F1E0030#32
  | 4 => 0xBF94D112#32
  | 5 => 0x3F9C03AD#32
  | 6 => 0x3CEC291F#32
  | 7 => 0x3FA94F4F#32
  | 8 => 0x3FE9305E#32
  | 9 => 0xBD66A972#32
  | 10 => 0xBCFC47FF#32
  | 11 => 0x3F4E2291#32
  | 12 => 0xBF4A909F#32
  | 13 => 0x3FC69DC1#32
  | 14 => 0x3F5ABB53#32
  | 15 => 0xBF143BB2#32
  | 16 => 0xBF1F4B9B#32
  | 17 => 0xBF4FD501#32
  | 18 => 0xBD569F6F#32
  | 19 => 0x3F25FDF9#32
  | 20 => 0xBF8BBD91#32
  | 21 => 0x40AA8C11#32
  | 22 => 0x40798981#32
  | 23 => 0x3EE81462#32
  | 24 => 0xBFA48EC9#32
  | 25 => 0x4017154A#32
  | 26 => 0x4047EAB2#32
  | 27 => 0xBF96E736#32
  | 28 => 0x40052301#32
  | 29 => 0x3FF6E723#32
  | 30 => 0x40BDC544#32
  | 31 => 0x3E9191FF#32
  | 32 => 0xBF2CDEBB#32
  | 33 => 0x400451FC#32
  | 34 => 0xBEAA1E5B#32
  | 35 => 0xBF8C1597#32
  | 36 => 0xBED2A14C#32
  | 37 => 0x3ED251DE#32
  | 38 => 0x3EE88E07#32
  | 39 => 0x401F3406#32
  | 40 => 0xBD622083#32
  | 41 => 0xBE5631AF#32
  | 42 => 0x3EEE4AF6#32
  | 43 => 0x3E989EE3#32
  | 44 => 0xBF2F16FA#32
  | 45 => 0x3E18F4B3#32
  | 46 => 0x408153B9#32
  | 47 => 0x3F857269#32
  | 48 => 0x3F3DCBEB#32
  | 49 => 0x40A288CC#32
  | 50 => 0x3F8AA4CB#32
  | 51 => 0xBF1A1091#32
  | 52 => 0x3E9EF2EB#32
  | 53 => 0x3F63E635#32
  | 54 => 0x3F948A6D#32
  | 55 => 0x3ED8646D#32
  | 56 => 0x3D1ECBAB#32
  | 57 => 0xBF770ECB#32
  | 58 => 0x406CE7E2#32
  | 59 => 0x3F8E4592#32
  | 60 => 0x3F88B30C#32
  | 61 => 0x3F43495D#32
  | 62 => 0xBFAEA297#32
  | 63 => 0xBF074E51#32
  | 64 => 0x3ED99057#32
  | 65 => 0x3F400A28#32
  | 66 => 0xBF8C1BC3#32
  | 67 => 0xBFA87E41#32
  | 68 => 0x3F061064#32
  | 69 => 0x3FAFB381#32
  | 70 => 0xBE93C60F#32
  | 71 => 0x3F6B4115#32
  | 72 => 0xBF73AFAE#32
  | 73 => 0x3FEB772E#32
  | 74 => 0x3EAEAD68#32
  | 75 => 0xBED58901#32
  | 76 => 0x3E1E6F78#32
  | 77 => 0x3FFBF443#32
  | 78 => 0x3F0F8AE7#32
  | 79 => 0x3FF95210#32
  | 80 => 0x3FEC82D2#32
  | 81 => 0x3F11598E#32
  | 82 => 0xBFA3F048#32
  | 83 => 0x3FEBE64B#32
  | 84 => 0x40A6ADB6#32
  | 85 => 0x3FEEB734#32
  | 86 => 0x3E9B542A#32
  | 87 => 0x3E0A968B#32
  | 88 => 0xBF6E5075#32
  | 89 => 0xBF30DC7B#32
  | 90 => 0xBEF1E523#32
  | 91 => 0xBEC0E538#32
  | 92 => 0x3FD0EC5E#32
  | 93 => 0x3E3D1588#32
  | 94 => 0x403E77EB#32
  | 95 => 0x3EB8C3A0#32
  | 96 => 0xBF3B94DF#32
  | 97 => 0x4001964D#32
  | 98 => 0x3EE7DEB0#32
  | 99 => 0x3F1DBB2F#32
  | 100 => 0x3FD65721#32
  | 101 => 0xBEEAAB17#32
  | 102 => 0x3F8DB22E#32
  | 103 => 0x3F2B0849#32
  | 104 => 0x4015DA71#32
  | 105 => 0x404922EA#32
  | 106 => 0x3DAFC1BF#32
  | 107 => 0x400C2E99#32
  | 108 => 0x3FEC8DE8#32
  | 109 => 0x3F71289C#32
  | 110 => 0x3FA49CD0#32
  | 111 => 0x3D29CB4F#32
  | 112 => 0x3F213CC4#32
  | 113 => 0xBFB91EA2#32
  | 114 => 0x3DB3F797#32
  | 115 => 0x3EADD7E4#32
  | 116 => 0x3D78F2E6#32
  | 117 => 0x3F69ECCC#32
  | 118 => 0x3E596293#32
  | 119 => 0x3F1FFA25#32
  | 120 => 0x3F90D22E#32
  | 121 => 0x3F669E2C#32
  | 122 => 0x3FFD04BF#32
  | 123 => 0x3FAEA45A#32
  | 124 => 0x3F9D6264#32
  | 125 => 0x4022E7F3#32
  | 126 => 0x3E330E07#32
  | 127 => 0x3F223408#32
  | _ => 0#32

noncomputable abbrev lit0t0_706 (i : Nat) : BitVec 32 := match i % 128 with
  | 0 => 0x3E96496A#32
  | 1 => 0xBE67ED45#32
  | 2 => 0x403CB909#32
  | 3 => 0x3FBD88E6#32
  | 4 => 0xBF0A10C0#32
  | 5 => 0x3F8EDA61#32
  | 6 => 0x3FB8CB3F#32
  | 7 => 0x4002B6F8#32
  | 8 => 0x4021B009#32
  | 9 => 0x3F89D440#32
  | 10 => 0xBE33D42E#32
  | 11 => 0xBF27CD01#32
  | 12 => 0x3F867DA8#32
  | 13 => 0x3F7FF422#32
  | 14 => 0x3F5166CB#32
  | 15 => 0xBE8584A6#32
  | 16 => 0xBEAFB019#32
  | 17 => 0xBEEC16E3#32
  | 18 => 0x3E6560CC#32
  | 19 => 0x3E9CB74E#32
  | 20 => 0x3F7C9292#32
  | 21 => 0x3F815D2A#32
  | 22 => 0x3FE184B1#32
  | 23 => 0x3FBCB0DE#32
  | 24 => 0xBEDE4C6E#32
  | 25 => 0x3E75AF8B#32
  | 26 => 0x406801C4#32
  | 27 => 0x3FA91055#32
  | 28 => 0x3F2A9CAD#32
  | 29 => 0x3F9519A8#32
  | 30 => 0x3FE1A21D#32
  | 31 => 0x3EB20234#32
  | 32 => 0x3C7BFED2#32
  | 33 => 0xBEE1C2EA#32
  | 34 => 0xBFB180C0#32
  | 35 => 0xBC9A33A0#32
  | 36 => 0xBEABB2F3#32
  | 37 => 0x3F5A371E#32
  | 38 => 0x3EA79FCA#32
  | 39 => 0x3F997F1C#32
  | 40 => 0x3FA3C200#32
  | 41 => 0xBFA4311C#32
  | 42 => 0x3ED54961#32
  | 43 => 0x3FA3F553#32
  | 44 => 0xBF98673A#32
  | 45 => 0xBF249316#32
  | 46 => 0xBD1E28E3#32
  | 47 => 0x3F0D626A#32
  | 48 => 0x3F3A0E4A#32
  | 49 => 0xBCB51847#32
  | 50 => 0x3FEC011F#32
  | 51 => 0x3F895B4E#32
  | 52 => 0x3F466807#32
  | 53 => 0x3F321A94#32
  | 54 => 0xBF030B70#32
  | 55 => 0xBF781E3E#32
  | 56 => 0xBE70BE5A#32
  | 57 => 0x400E8D09#32
  | 58 => 0x4020111F#32
  | 59 => 0x3F80650E#32
  | 60 => 0x3E61004C#32
  | 61 => 0xBE443BD2#32
  | 62 => 0xBEFC81FA#32
  | 63 => 0x3E5508FA#32
  | 64 => 0x40A1BD2B#32
  | 65 => 0xBF53CDB0#32
  | 66 => 0x40A415C0#32
  | 67 => 0x3ED1F595#32
  | 68 => 0xBF8FF988#32
  | 69 => 0x3FD64C78#32
  | 70 => 0xBEC45CF6#32
  | 71 => 0x3F184DB0#32
  | 72 => 0xBF404BD7#32
  | 73 => 0x3F3E50A7#32
  | 74 => 0x402D7E67#32
  | 75 => 0xBE319290#32
  | 76 => 0x4083F643#32
  | 77 => 0x3EE59C2A#32
  | 78 => 0x402E63D9#32
  | 79 => 0xBE9D507F#32
  | 80 => 0x40537DD2#32
  | 81 => 0xBF1F300D#32
  | 82 => 0x3FC16BB9#32
  | 83 => 0xBF1667ED#32
  | 84 => 0x40320B41#32
  | 85 => 0xBE4F7514#32
  | 86 => 0x3EC97E02#32
  | 87 => 0x3D914000#32
  | 88 => 0xBE961916#32
  | 89 => 0x3E4DD8CD#32
  | 90 => 0x3F5D31E4#32
  | 91 => 0xBF922F7A#32
  | 92 => 0x3FD9EF2C#32
  | 93 => 0xBDB2F823#32
  | 94 => 0xBE0D4E06#32
  | 95 => 0xBEC13922#32
  | 96 => 0xBFAF0862#32
  | 97 => 0x3F04AD9F#32
  | 98 => 0x3F4C35E6#32
  | 99 => 0x3E46DF37#32
  | 100 => 0x3FB7AFE1#32
  | 101 => 0x3FE0DF48#32
  | 102 => 0xBF5CCC7C#32
  | 103 => 0xBF0455D6#32
  | 104 => 0xBF31EA20#32
  | 105 => 0x3E9CE669#32
  | 106 => 0x3ECDD338#32
  | 107 => 0xBF59449C#32
  | 108 => 0xBEA2304F#32
  | 109 => 0x3F1C008E#32
  | 110 => 0xBFC1230D#32
  | 111 => 0x40240B9F#32
  | 112 => 0x3E94A550#32
  | 113 => 0x3D2E256D#32
  | 114 => 0xBDA1D4A3#32
  | 115 => 0x3F181EAE#32
  | 116 => 0x3ECEC367#32
  | 117 => 0x3ED76EFC#32
  | 118 => 0x3FDFF3A6#32
  | 119 => 0x3F126649#32
  | 120 => 0xBF8E54A8#32
  | 121 => 0xBE751CE1#32
  | 122 => 0x40166043#32
  | 123 => 0x3CB61807#32
  | 124 => 0x3FC8EB46#32
  | 125 => 0x3F9B0C3B#32
  | 126 => 0x40398869#32
  | 127 => 0xBECDDD74#32
  | _ => 0#32

noncomputable abbrev lit0t0_707 (i : Nat) : BitVec 32 := match i % 128 with
  | 0 => 0x3DA6FBC5#32
  | 1 => 0x400A981A#32
  | 2 => 0x3F6640E0#32
  | 3 => 0xBF24053D#32
  | 4 => 0xBEEA0DA2#32
  | 5 => 0xBDADB9C9#32
  | 6 => 0x3EF2E65A#32
  | 7 => 0x3FA32C60#32
  | 8 => 0x3FFF3BD7#32
  | 9 => 0xBF1C9DF8#32
  | 10 => 0xBF4DE2F4#32
  | 11 => 0x3F866A53#32
  | 12 => 0xBEB9468C#32
  | 13 => 0x3FCF2BC0#32
  | 14 => 0x3EF2244E#32
  | 15 => 0x3EEBE65A#32
  | 16 => 0x3F7BF310#32
  | 17 => 0xBCD94D9D#32
  | 18 => 0xBDB9C470#32
  | 19 => 0x3E69EE00#32
  | 20 => 0x4079D7CB#32
  | 21 => 0xBFCA5904#32
  | 22 => 0x3FBD78E2#32
  | 23 => 0xBE542460#32
  | 24 => 0xBE6004F0#32
  | 25 => 0xBF60E928#32
  | 26 => 0x3FE34D1E#32
  | 27 => 0xBE196146#32
  | 28 => 0x3F7EA78E#32
  | 29 => 0x3FBCCDD1#32
  | 30 => 0x3F8FBDC0#32
  | 31 => 0x3F3CB0C0#32
  | 32 => 0xBF248861#32
  | 33 => 0x3EE451D8#32
  | 34 => 0x3F91524A#32
  | 35 => 0x3F9E57E1#32
  | 36 => 0x3F2A9CE2#32
  | 37 => 0x40A74BF8#32
  | 38 => 0x3FB2E606#32
  | 39 => 0xBF207E9D#32
  | 40 => 0xBF4FBF0D#32
  | 41 => 0x3F803A97#32
  | 42 => 0x40B0F78D#32
  | 43 => 0x4029DF1E#32
  | 44 => 0xBECE564A#32
  | 45 => 0x3EAAA748#32
  | 46 => 0x3FDA5DE9#32
  | 47 => 0xBF3820FB#32
  | 48 => 0x3FB39139#32
  | 49 => 0x3FA8438E#32
  | 50 => 0xBD21080D#32
  | 51 => 0x3F6FFBD0#32
  | 52 => 0xBE2FD0C6#32
  | 53 => 0x3F588D45#32
  | 54 => 0x3F322020#32
  | 55 => 0x3F4118DF#32
  | 56 => 0x3F6C5618#32
  | 57 => 0x3F2523E8#32
  | 58 => 0xBFD4E8DF#32
  | 59 => 0x3F574D75#32
  | 60 => 0x3D498133#32
  | 61 => 0x3EA4E0DC#32
  | 62 => 0x3EDFC341#32
  | 63 => 0xBDE1605D#32
  | 64 => 0xBFD5A45E#32
  | 65 => 0x40274E21#32
  | 66 => 0x3F9D5B58#32
  | 67 => 0xBD52CDEA#32
  | 68 => 0x400B8D1E#32
  | 69 => 0xBE8DD802#32
  | 70 => 0x3F5A2F7C#32
  | 71 => 0xBF080638#32
  | 72 => 0xBDAAA4A1#32
  | 73 => 0x3EF96A02#32
  | 74 => 0xBFAAB37C#32
  | 75 => 0x3EAFA3A8#32
  | 76 => 0xBECC56C4#32
  | 77 => 0xBF39E5E4#32
  | 78 => 0xBF6606CC#32
  | 79 => 0xBF65C5F2#32
  | 80 => 0xBE566D5A#32
  | 81 => 0x401903BA#32
  | 82 => 0x3FBBB750#32
  | 83 => 0x3F162572#32
  | 84 => 0x3E9D12D1#32
  | 85 => 0x3FF92095#32
  | 86 => 0x3EB6E1A4#32
  | 87 => 0xBF11AFCE#32
  | 88 => 0x3EFF7256#32
  | 89 => 0x3F539EA0#32
  | 90 => 0x3EE7E493#32
  | 91 => 0x3F334902#32
  | 92 => 0x40688C03#32
  | 93 => 0x3D54727C#32
  | 94 => 0xB95DB9FF#32
  | 95 => 0x3F0D6F4D#32
  | 96 => 0xBFA59391#32
  | 97 => 0xBF1C1031#32
  | 98 => 0xBEB8EC67#32
  | 99 => 0x401BEE6D#32
  | 100 => 0x40AF4B06#32
  | 101 => 0xBF9696C9#32
  | 102 => 0x3FA059C4#32
  | 103 => 0x3FB16C3F#32
  | 104 => 0xBF85B482#32
  | 105 => 0x3F0EF334#32
  | 106 => 0x3D1E240E#32
  | 107 => 0x40420B0E#32
  | 108 => 0x3F632B57#32
  | 109 => 0x40143C43#32
  | 110 => 0xBE25D17B#32
  | 111 => 0x40617424#32
  | 112 => 0x40094C56#32
  | 113 => 0x40006589#32
  | 114 => 0x3FEEA1BF#32
  | 115 => 0xBEE2B724#32
  | 116 => 0x3F44DC8C#32
  | 117 => 0xBFA0BD2F#32
  | 118 => 0x401CB914#32
  | 119 => 0xBF39FD0A#32
  | 120 => 0x3F9264C5#32
  | 121 => 0xBE2B2275#32
  | 122 => 0x3F06C804#32
  | 123 => 0x3EB3BE8F#32
  | 124 => 0xBF1F57A8#32
  | 125 => 0x3EA31862#32
  | 126 => 0xBEF91F01#32
  | 127 => 0x3F7850BE#32
  | _ => 0#32

noncomputable abbrev lit0t0_708 (i : Nat) : BitVec 32 := match i % 128 with
  | 0 => 0x3F60E752#32
  | 1 => 0x3E721D4A#32
  | 2 => 0x3FC492EA#32
  | 3 => 0x3CFF2910#32
  | 4 => 0x3FBD3F51#32
  | 5 => 0x40427988#32
  | 6 => 0xBF913112#32
  | 7 => 0xBEFAC180#32
  | 8 => 0x406A720A#32
  | 9 => 0xBF2534E5#32
  | 10 => 0xBE646B8B#32
  | 11 => 0x3F23C53C#32
  | 12 => 0x3F2CF354#32
  | 13 => 0xBF6BA428#32
  | 14 => 0xBF617ADF#32
  | 15 => 0x40ACA26D#32
  | 16 => 0xBFAA4AB9#32
  | 17 => 0x3E08C050#32
  | 18 => 0x3FA49134#32
  | 19 => 0x3F9EC6F6#32
  | 20 => 0x3F708024#32
  | 21 => 0x3FC289F7#32
  | 22 => 0x3FDC373E#32
  | 23 => 0xBFD9B307#32
  | 24 => 0x4012011F#32
  | 25 => 0x4032068E#32
  | 26 => 0x3F6760C1#32
  | 27 => 0xBE909735#32
  | 28 => 0x3F6D1AA7#32
  | 29 => 0xBFC0032B#32
  | 30 => 0x3F2ACB1C#32
  | 31 => 0x3FBB159E#32
  | 32 => 0x3FA9D287#32
  | 33 => 0x3FD97118#32
  | 34 => 0xBDEC92AA#32
  | 35 => 0x401D2645#32
  | 36 => 0xBDDB36A1#32
  | 37 => 0x3DCCB1A6#32
  | 38 => 0xBE0D7822#32
  | 39 => 0x3E8A05C6#32
  | 40 => 0x3F0EA7C6#32
  | 41 => 0xBF1B5DE9#32
  | 42 => 0x40448DC9#32
  | 43 => 0xBE32B6D6#32
  | 44 => 0x3F1A67F3#32
  | 45 => 0x4014AAA9#32
  | 46 => 0x3FA91B21#32
  | 47 => 0x3FCC96F0#32
  | 48 => 0xBEE03C6E#32
  | 49 => 0x3F801484#32
  | 50 => 0xBE9DDA99#32
  | 51 => 0xBF2F1DB2#32
  | 52 => 0x3FB17C13#32
  | 53 => 0xBF20C318#32
  | 54 => 0xBF520E77#32
  | 55 => 0x3EFD5E8E#32
  | 56 => 0xBF9AEFAF#32
  | 57 => 0x40BA378F#32
  | 58 => 0xBEF67850#32
  | 59 => 0x403056C1#32
  | 60 => 0x3F87A829#32
  | 61 => 0x3ECB4390#32
  | 62 => 0x3F902099#32
  | 63 => 0x3E1341C3#32
  | 64 => 0x3E1A8E05#32
  | 65 => 0x409EA87A#32
  | 66 => 0xBDA173D7#32
  | 67 => 0xBF4CDEE7#32
  | 68 => 0x3F8A396C#32
  | 69 => 0x3F837E40#32
  | 70 => 0x3F36A988#32
  | 71 => 0xBF6EB23C#32
  | 72 => 0xBF896C3F#32
  | 73 => 0x3EF81CE7#32
  | 74 => 0xBF616FE1#32
  | 75 => 0x3E8F5DA9#32
  | 76 => 0xBE1E8BDD#32
  | 77 => 0xBF1780DB#32
  | 78 => 0x3FB5302D#32
  | 79 => 0xBE3904C9#32
  | 80 => 0x3FBD4C4C#32
  | 81 => 0x40035CB2#32
  | 82 => 0xBD731A34#32
  | 83 => 0xBD24B40C#32
  | 84 => 0x3D5AC66D#32
  | 85 => 0x3F18E417#32
  | 86 => 0x3F872BE9#32
  | 87 => 0x3F0C5221#32
  | 88 => 0xBF58AB42#32
  | 89 => 0xBE940708#32
  | 90 => 0xBEF18ED3#32
  | 91 => 0xBD5E155B#32
  | 92 => 0x3ECB84A9#32
  | 93 => 0x3F13C08F#32
  | 94 => 0x3F9DD660#32
  | 95 => 0x3F835826#32
  | 96 => 0x3DE85BE8#32
  | 97 => 0x400CB428#32
  | 98 => 0xBE7EDA5A#32
  | 99 => 0x40814F07#32
  | 100 => 0xBE99FB41#32
  | 101 => 0xBE6A2112#32
  | 102 => 0xBD50DC15#32
  | 103 => 0x3F504989#32
  | 104 => 0xBF6703D5#32
  | 105 => 0x3CA1AA32#32
  | 106 => 0x3F5EB216#32
  | 107 => 0xBF0E343A#32
  | 108 => 0xBF680F67#32
  | 109 => 0xBF03F1C9#32
  | 110 => 0xBF50E4C1#32
  | 111 => 0x3FCF42DA#32
  | 112 => 0x3BA81D36#32
  | 113 => 0x3F904E7F#32
  | 114 => 0x3EBD5F4B#32
  | 115 => 0xBDD7FADC#32
  | 116 => 0xBF689549#32
  | 117 => 0x402141F2#32
  | 118 => 0xBF2010CA#32
  | 119 => 0xBFA7F296#32
  | 120 => 0xBF300319#32
  | 121 => 0x3F26BF00#32
  | 122 => 0x3FA0731E#32
  | 123 => 0xBE4B5459#32
  | 124 => 0x406357B1#32
  | 125 => 0x3F353A7F#32
  | 126 => 0xBF3DD59C#32
  | 127 => 0x3F9F831E#32
  | _ => 0#32

noncomputable abbrev lit0t0_709 (i : Nat) : BitVec 32 := match i % 128 with
  | 0 => 0xBE33B4C5#32
  | 1 => 0x3FB5E52A#32
  | 2 => 0x405647CF#32
  | 3 => 0x3F39E8FA#32
  | 4 => 0x3FA890DE#32
  | 5 => 0xBE1C2512#32
  | 6 => 0x3FC1E938#32
  | 7 => 0x3E92B9BB#32
  | 8 => 0xBFD8429F#32
  | 9 => 0x3E4DB206#32
  | 10 => 0x40B4BEAB#32
  | 11 => 0xBEA53C7A#32
  | 12 => 0x3EFF31AF#32
  | 13 => 0x3BE9664A#32
  | 14 => 0x3CCFCB5F#32
  | 15 => 0xBFC78F88#32
  | 16 => 0xBDFFBAD2#32
  | 17 => 0xBE722074#32
  | 18 => 0x4045F0AE#32
  | 19 => 0xBB370087#32
  | 20 => 0xBF8A3D81#32
  | 21 => 0xBF695B85#32
  | 22 => 0x403FFDDB#32
  | 23 => 0xBF8A5AAC#32
  | 24 => 0xBE9D22B5#32
  | 25 => 0x3E4DBAC5#32
  | 26 => 0x3F1D6B9D#32
  | 27 => 0x401625DF#32
  | 28 => 0xBF9C47FB#32
  | 29 => 0xBFB11821#32
  | 30 => 0x401B3D9F#32
  | 31 => 0x3F0448B5#32
  | 32 => 0xBF5201DD#32
  | 33 => 0x4019FE3B#32
  | 34 => 0x3EC5AD3D#32
  | 35 => 0xBEDFBAD6#32
  | 36 => 0xBFBA8BE5#32
  | 37 => 0x405C3A7B#32
  | 38 => 0xBF455B92#32
  | 39 => 0xBF2D33C1#32
  | 40 => 0xBE9420D5#32
  | 41 => 0xBF8E5CC5#32
  | 42 => 0xBF8AF990#32
  | 43 => 0xBF0F31D6#32
  | 44 => 0xBE22BE09#32
  | 45 => 0xBF07180C#32
  | 46 => 0x3FD0CAE7#32
  | 47 => 0xBEFEA944#32
  | 48 => 0x3E688EBB#32
  | 49 => 0xBF0B323D#32
  | 50 => 0x3E883D55#32
  | 51 => 0xBF208097#32
  | 52 => 0xBF2E0C33#32
  | 53 => 0x4024AFE0#32
  | 54 => 0x3F4E782A#32
  | 55 => 0x3D83E8D8#32
  | 56 => 0x3EE11325#32
  | 57 => 0xBF65D065#32
  | 58 => 0xBDA489B7#32
  | 59 => 0x3F998E71#32
  | 60 => 0xBEF56001#32
  | 61 => 0xBF433751#32
  | 62 => 0xBF73F7B4#32
  | 63 => 0xBE36AF23#32
  | 64 => 0x3E50DAF6#32
  | 65 => 0xBF6D81C2#32
  | 66 => 0xBF076CD7#32
  | 67 => 0xBEE14D43#32
  | 68 => 0xBF2B8D05#32
  | 69 => 0x3F66A1C9#32
  | 70 => 0xBF597A4A#32
  | 71 => 0xBE5BC5DA#32
  | 72 => 0xBD88D667#32
  | 73 => 0x3F370A50#32
  | 74 => 0xBF9DB2C4#32
  | 75 => 0xBF8037F6#32
  | 76 => 0x3F01DCC6#32
  | 77 => 0x405E4608#32
  | 78 => 0x3F0416EA#32
  | 79 => 0x3FD8028C#32
  | 80 => 0x3F62D44E#32
  | 81 => 0xBF0B3A5C#32
  | 82 => 0xBE23C484#32
  | 83 => 0x3E13CFE9#32
  | 84 => 0xBE060099#32
  | 85 => 0xBEACBBBF#32
  | 86 => 0x3ECC8AF5#32
  | 87 => 0x4049752D#32
  | 88 => 0x3F0584BE#32
  | 89 => 0xBF8DB48B#32
  | 90 => 0x3FDCB5C7#32
  | 91 => 0xBF81C0A1#32
  | 92 => 0xBF1B69D5#32
  | 93 => 0xBF856844#32
  | 94 => 0x3E960D16#32
  | 95 => 0x3E3FD336#32
  | 96 => 0x3FA85DBE#32
  | 97 => 0x3E4A32F2#32
  | 98 => 0x3F0B6B4D#32
  | 99 => 0x3F5D72CE#32
  | 100 => 0xBC8625C8#32
  | 101 => 0x3FB42CF3#32
  | 102 => 0xBF185F33#32
  | 103 => 0x3F1355C6#32
  | 104 => 0xBE393747#32
  | 105 => 0xBE755C29#32
  | 106 => 0x3F95DDA0#32
  | 107 => 0xBFA1B6DE#32
  | 108 => 0x3F8B8B7D#32
  | 109 => 0xBDB709D2#32
  | 110 => 0xBE32038B#32
  | 111 => 0x3F251971#32
  | 112 => 0xBF7E2AC0#32
  | 113 => 0x3FDE4143#32
  | 114 => 0x3DE44BF9#32
  | 115 => 0x4006F585#32
  | 116 => 0x400C2338#32
  | 117 => 0x3F95D893#32
  | 118 => 0xBE0E0EE8#32
  | 119 => 0x40075455#32
  | 120 => 0x3F981B04#32
  | 121 => 0x3EA66798#32
  | 122 => 0xBE3B1AF8#32
  | 123 => 0xBFAC552D#32
  | 124 => 0x4002FA08#32
  | 125 => 0xBB0EC42A#32
  | 126 => 0x3FDB516D#32
  | 127 => 0x3EA49E79#32
  | _ => 0#32

noncomputable abbrev lit0t0_710 (i : Nat) : BitVec 32 := match i % 128 with
  | 0 => 0x3DA44411#32
  | 1 => 0x3F9DFDF4#32
  | 2 => 0xBF1C76CC#32
  | 3 => 0xBE13179C#32
  | 4 => 0x3C4C2E9B#32
  | 5 => 0xBF5F9208#32
  | 6 => 0x3F1EC63C#32
  | 7 => 0x3F082C25#32
  | 8 => 0xBF11845F#32
  | 9 => 0x3DF9E287#32
  | 10 => 0xBDA0923A#32
  | 11 => 0x3FAE3012#32
  | 12 => 0x3F88E869#32
  | 13 => 0x3F4A0AC6#32
  | 14 => 0x3E7A8DAC#32
  | 15 => 0x3F89438A#32
  | 16 => 0x4017FCB8#32
  | 17 => 0x3F02E106#32
  | 18 => 0x407F0F09#32
  | 19 => 0xBF7E1580#32
  | 20 => 0x3F5597BE#32
  | 21 => 0xBD8764DC#32
  | 22 => 0x3F2EC017#32
  | 23 => 0x405004E5#32
  | 24 => 0x3E61CB9B#32
  | 25 => 0x40117BF1#32
  | 26 => 0x3F044EBF#32
  | 27 => 0x3E0CF7E7#32
  | 28 => 0xBF8B121B#32
  | 29 => 0xBFD4E280#32
  | 30 => 0x3F3CA194#32
  | 31 => 0x3F8E2AB8#32
  | 32 => 0xBFF1D3FE#32
  | 33 => 0xBED289F0#32
  | 34 => 0x3D47938D#32
  | 35 => 0xBF1BBEC8#32
  | 36 => 0xBF81FBB5#32
  | 37 => 0x3C4C383A#32
  | 38 => 0x40327618#32
  | 39 => 0xBF142BB7#32
  | 40 => 0xBBD68CCC#32
  | 41 => 0x3F888C5B#32
  | 42 => 0xBF161073#32
  | 43 => 0x3EACE1A7#32
  | 44 => 0x3FC638D1#32
  | 45 => 0x3E53E4B6#32
  | 46 => 0x3E481AD4#32
  | 47 => 0xBDA9F3D5#32
  | 48 => 0x3E5A6CBF#32
  | 49 => 0x3F6438B0#32
  | 50 => 0xBF36A3E7#32
  | 51 => 0xBECBDB3F#32
  | 52 => 0xBE4665C2#32
  | 53 => 0xBF0727E4#32
  | 54 => 0xBEB3A765#32
  | 55 => 0x3E903CC2#32
  | 56 => 0x403985AD#32
  | 57 => 0xBF861D96#32
  | 58 => 0xBDCE60CA#32
  | 59 => 0x3FA2F8D6#32
  | 60 => 0x3EFACC0E#32
  | 61 => 0x40272A11#32
  | 62 => 0xBE3EFD7B#32
  | 63 => 0x3F81EA68#32
  | 64 => 0xBF133239#32
  | 65 => 0x4066D92A#32
  | 66 => 0x3F989565#32
  | 67 => 0x3D7F48FB#32
  | 68 => 0xBF089760#32
  | 69 => 0x3E3EFB80#32
  | 70 => 0x3F877642#32
  | 71 => 0xBE436FEB#32
  | 72 => 0xBD849219#32
  | 73 => 0x3F41416B#32
  | 74 => 0xBF893EEF#32
  | 75 => 0xBFC57A2B#32
  | 76 => 0x4057E67F#32
  | 77 => 0x3FC0DC46#32
  | 78 => 0xBE1B4BDF#32
  | 79 => 0xBF2B2692#32
  | 80 => 0x3F32B5DA#32
  | 81 => 0x408A3D94#32
  | 82 => 0x3E9427FD#32
  | 83 => 0xBCC6F4F7#32
  | 84 => 0x3E00BA67#32
  | 85 => 0x3F8C4465#32
  | 86 => 0x3F802FA1#32
  | 87 => 0xBE6D52C2#32
  | 88 => 0x3F5B42C1#32
  | 89 => 0xBF8293FE#32
  | 90 => 0xBF8A552B#32
  | 91 => 0xBFAA1E42#32
  | 92 => 0x3FBC527D#32
  | 93 => 0xBED9B07A#32
  | 94 => 0xBDCF7990#32
  | 95 => 0xBEF8DA12#32
  | 96 => 0xBF60951E#32
  | 97 => 0xBF23922C#32
  | 98 => 0xBF2B2563#32
  | 99 => 0x40390D78#32
  | 100 => 0x3EFA6305#32
  | 101 => 0xBF4DDB60#32
  | 102 => 0x3FBE391F#32
  | 103 => 0x3DCC4B3A#32
  | 104 => 0xBE75C56B#32
  | 105 => 0x3E511C9C#32
  | 106 => 0xBF80EB12#32
  | 107 => 0x3FDF5D83#32
  | 108 => 0x3EBB45B8#32
  | 109 => 0xBF14C8BA#32
  | 110 => 0x4037A392#32
  | 111 => 0xBF37FA54#32
  | 112 => 0xBC56A6F5#32
  | 113 => 0xBD54A7C6#32
  | 114 => 0xBD4EA552#32
  | 115 => 0x3F2942FD#32
  | 116 => 0xBEDF6224#32
  | 117 => 0x3F2C7E36#32
  | 118 => 0xBE5F6065#32
  | 119 => 0x3F060145#32
  | 120 => 0x3E76EC9C#32
  | 121 => 0x3EBC3A8A#32
  | 122 => 0x3FF43579#32
  | 123 => 0xBF96E6B7#32
  | 124 => 0xBFA6A582#32
  | 125 => 0xBFABA221#32
  | 126 => 0xBF52F340#32
  | 127 => 0xBEA3C961#32
  | _ => 0#32

noncomputable abbrev lit0t0_711 (i : Nat) : BitVec 32 := match i % 128 with
  | 0 => 0xBF5576C2#32
  | 1 => 0x3F58B509#32
  | 2 => 0xBF51104E#32
  | 3 => 0xBF3044DD#32
  | 4 => 0x3F380C43#32
  | 5 => 0xBF550164#32
  | 6 => 0x3F3BC36B#32
  | 7 => 0x4010E8A5#32
  | 8 => 0x3E3A1009#32
  | 9 => 0x40158AEB#32
  | 10 => 0xBFA0CBAD#32
  | 11 => 0x3FCF8FAB#32
  | 12 => 0x3D1BC0F5#32
  | 13 => 0x40339327#32
  | 14 => 0x3F9B0EC3#32
  | 15 => 0x400B001F#32
  | 16 => 0x3DE93FA0#32
  | 17 => 0xBF8BE7AC#32
  | 18 => 0xBF555C95#32
  | 19 => 0xBF60B374#32
  | 20 => 0x4043C510#32
  | 21 => 0x3ECDC386#32
  | 22 => 0xBF64833A#32
  | 23 => 0x3DD1C90F#32
  | 24 => 0x401FCDBE#32
  | 25 => 0xBFA2541D#32
  | 26 => 0x3FA4623E#32
  | 27 => 0x3EC51C56#32
  | 28 => 0x3F96FDB3#32
  | 29 => 0xBEADE7E1#32
  | 30 => 0xBF22905C#32
  | 31 => 0x3F5C4840#32
  | 32 => 0xBE997B8E#32
  | 33 => 0x3F7E6DC0#32
  | 34 => 0x402C62DB#32
  | 35 => 0xBF0B952A#32
  | 36 => 0xBE35C696#32
  | 37 => 0x3F1AB814#32
  | 38 => 0xBE8F0273#32
  | 39 => 0x3FD4AD5A#32
  | 40 => 0xBF150749#32
  | 41 => 0x4031C7CC#32
  | 42 => 0x3F543DE6#32
  | 43 => 0xBEEE5424#32
  | 44 => 0xBE969E98#32
  | 45 => 0xBF86883F#32
  | 46 => 0xBF002E16#32
  | 47 => 0x3F5BD4D8#32
  | 48 => 0xBECBB9B5#32
  | 49 => 0x3F06A528#32
  | 50 => 0x3F5E3537#32
  | 51 => 0xBE364790#32
  | 52 => 0xBF2B0CD9#32
  | 53 => 0x3F4AAACA#32
  | 54 => 0x3EAAF150#32
  | 55 => 0xBE808E18#32
  | 56 => 0xBE997789#32
  | 57 => 0xBEA41CF0#32
  | 58 => 0x3F56D4F4#32
  | 59 => 0xBF0A44D4#32
  | 60 => 0x3F83D359#32
  | 61 => 0x3FF8D313#32
  | 62 => 0x40647023#32
  | 63 => 0xBF146498#32
  | 64 => 0x3E1AF357#32
  | 65 => 0x3F270DE6#32
  | 66 => 0xBE7DA73F#32
  | 67 => 0x3E7A8427#32
  | 68 => 0xBF1FD4AC#32
  | 69 => 0x3F3CEA99#32
  | 70 => 0x3EC5A46F#32
  | 71 => 0xBE28A36F#32
  | 72 => 0xBCF671AF#32
  | 73 => 0x4011857D#32
  | 74 => 0x3FA1E791#32
  | 75 => 0x400BB823#32
  | 76 => 0x40196188#32
  | 77 => 0xBF889CB8#32
  | 78 => 0xBF11AF3C#32
  | 79 => 0x3E865E78#32
  | 80 => 0xBED11473#32
  | 81 => 0x408B461D#32
  | 82 => 0x3F25F133#32
  | 83 => 0xBF525323#32
  | 84 => 0x3F23C16B#32
  | 85 => 0xBFC89E7E#32
  | 86 => 0x3F809AB6#32
  | 87 => 0xBF253CC8#32
  | 88 => 0x40180287#32
  | 89 => 0x3F5AA56A#32
  | 90 => 0xBE726763#32
  | 91 => 0x402FC904#32
  | 92 => 0x3EAA1C25#32
  | 93 => 0x4021C4B7#32
  | 94 => 0x3EBDAD75#32
  | 95 => 0x3FA88B79#32
  | 96 => 0xBEDB7FBE#32
  | 97 => 0x4081F028#32
  | 98 => 0x3F351D38#32
  | 99 => 0x3FCFD5C8#32
  | 100 => 0xBFB16175#32
  | 101 => 0x3FFF3D8D#32
  | 102 => 0xBF7E504A#32
  | 103 => 0x3FFDC4C6#32
  | 104 => 0x40599897#32
  | 105 => 0xBE988C43#32
  | 106 => 0x3FC95A10#32
  | 107 => 0x3F43DD91#32
  | 108 => 0x3DD490A6#32
  | 109 => 0xBEA3835E#32
  | 110 => 0x3F79C10B#32
  | 111 => 0x3EB276D0#32
  | 112 => 0x3EEE7EF5#32
  | 113 => 0x3F8C6115#32
  | 114 => 0xBEC6EBFB#32
  | 115 => 0x3F181367#32
  | 116 => 0xBE736FF6#32
  | 117 => 0x3F747224#32
  | 118 => 0x3F2249DC#32
  | 119 => 0x3E8BF10A#32
  | 120 => 0xBDF2E72B#32
  | 121 => 0x3F809C9E#32
  | 122 => 0x3F18DAF7#32
  | 123 => 0x3FC3A501#32
  | 124 => 0xBEEC4F85#32
  | 125 => 0x3D8F897E#32
  | 126 => 0xBF6AACE9#32
  | 127 => 0xBF421620#32
  | _ => 0#32

noncomputable abbrev lit0t0_712 (i : Nat) : BitVec 32 := match i % 128 with
  | 0 => 0x3FD9C6F0#32
  | 1 => 0x3FC9B092#32
  | 2 => 0xBF044EB0#32
  | 3 => 0x3FBF0042#32
  | 4 => 0x3BE4AC4A#32
  | 5 => 0x3EF2CEAC#32
  | 6 => 0x3F7BF3BB#32
  | 7 => 0x3F0F76D2#32
  | 8 => 0xBB379A1A#32
  | 9 => 0x3F0DD135#32
  | 10 => 0xBCF9B8A3#32
  | 11 => 0xBEF7A220#32
  | 12 => 0xBE49B138#32
  | 13 => 0x3FD69F3F#32
  | 14 => 0xBF0EC70D#32
  | 15 => 0x3E656B50#32
  | 16 => 0x3F80B7BC#32
  | 17 => 0x3F58D033#32
  | 18 => 0x404B127C#32
  | 19 => 0x3F8E44CF#32
  | 20 => 0xBE42FF6C#32
  | 21 => 0x3F1806A6#32
  | 22 => 0x40027422#32
  | 23 => 0xBFEFAB23#32
  | 24 => 0x3F9EF74D#32
  | 25 => 0x3F52F2F2#32
  | 26 => 0xBF14B996#32
  | 27 => 0x3FFF974F#32
  | 28 => 0xBF944A4C#32
  | 29 => 0x3E44707B#32
  | 30 => 0xBE234995#32
  | 31 => 0x3EEE4F4E#32
  | 32 => 0x3EEC1072#32
  | 33 => 0x3E8CCF14#32
  | 34 => 0xBE45E89A#32
  | 35 => 0xBF3FFC76#32
  | 36 => 0x3F741071#32
  | 37 => 0xBF0A3086#32
  | 38 => 0x403EFDCF#32
  | 39 => 0xBF1E5290#32
  | 40 => 0xBDD7C31E#32
  | 41 => 0x3F28A008#32
  | 42 => 0x3F8051A2#32
  | 43 => 0x401D0ADE#32
  | 44 => 0x3E8BB593#32
  | 45 => 0x40AEBA15#32
  | 46 => 0xBE3D1409#32
  | 47 => 0xBF1C6328#32
  | 48 => 0x3F9BD9B1#32
  | 49 => 0xBF08255B#32
  | 50 => 0x3FC0D731#32
  | 51 => 0x3FCA4DE1#32
  | 52 => 0xBF5709DE#32
  | 53 => 0xBD0B46E2#32
  | 54 => 0x405FC03A#32
  | 55 => 0xBEC1DD33#32
  | 56 => 0x3F2E8623#32
  | 57 => 0xBE42C9F8#32
  | 58 => 0xBD06D66D#32
  | 59 => 0xBF78D5E8#32
  | 60 => 0x4018E64A#32
  | 61 => 0x3F839EF3#32
  | 62 => 0xBEEE0524#32
  | 63 => 0xBEE71369#32
  | 64 => 0x3E53094E#32
  | 65 => 0x3E95A433#32
  | 66 => 0xBDA719FE#32
  | 67 => 0x3F864759#32
  | 68 => 0x3F2926EC#32
  | 69 => 0x3F6B3648#32
  | 70 => 0xBD12C32A#32
  | 71 => 0x3F82CAE9#32
  | 72 => 0xBF83F38A#32
  | 73 => 0xBFAE293A#32
  | 74 => 0xBE5DC348#32
  | 75 => 0x3F1245C4#32
  | 76 => 0x3F92DCE8#32
  | 77 => 0x3F4B70EA#32
  | 78 => 0x3F01EBB4#32
  | 79 => 0x3F8CFC4E#32
  | 80 => 0x402CC364#32
  | 81 => 0x3FC1757B#32
  | 82 => 0x3F5886AC#32
  | 83 => 0xBEFD7A2B#32
  | 84 => 0x408CA937#32
  | 85 => 0x3F7EE602#32
  | 86 => 0x3FD77820#32
  | 87 => 0xBFA58998#32
  | 88 => 0x3EFDA3F7#32
  | 89 => 0x402A95FF#32
  | 90 => 0xBF30E4B1#32
  | 91 => 0x3E7D9564#32
  | 92 => 0x40547F45#32
  | 93 => 0x3F6F1B0C#32
  | 94 => 0x3F388A77#32
  | 95 => 0x4021B8DA#32
  | 96 => 0x408F5F8C#32
  | 97 => 0x40A2C712#32
  | 98 => 0x3FCF90ED#32
  | 99 => 0x3EE2BC32#32
  | 100 => 0x3F8BA91C#32
  | 101 => 0x3F9308E4#32
  | 102 => 0xBE545E16#32
  | 103 => 0xBE6687B3#32
  | 104 => 0x3F1AF9AF#32
  | 105 => 0x3EB3957D#32
  | 106 => 0xBE9A0682#32
  | 107 => 0x3F892CC1#32
  | 108 => 0x3FD03B46#32
  | 109 => 0xBEB9B5DB#32
  | 110 => 0xBE149A7C#32
  | 111 => 0xBEE94A0C#32
  | 112 => 0xBF0E4250#32
  | 113 => 0x4006C4EA#32
  | 114 => 0x3F579709#32
  | 115 => 0x4026FA73#32
  | 116 => 0xBF1CFA04#32
  | 117 => 0x3FEAFE88#32
  | 118 => 0x3E0E60E8#32
  | 119 => 0x3EF8B39C#32
  | 120 => 0x3FAEA6C2#32
  | 121 => 0xBF4125EA#32
  | 122 => 0x3E75FE12#32
  | 123 => 0xBEE864C3#32
  | 124 => 0x3F46BD62#32
  | 125 => 0xBF5AD5B9#32
  | 126 => 0x3DF75908#32
  | 127 => 0xBEA8A47B#32
  | _ => 0#32

noncomputable abbrev lit0t0_713 (i : Nat) : BitVec 32 := match i % 128 with
  | 0 => 0x3CC90EBE#32
  | 1 => 0xBEA2B2FF#32
  | 2 => 0x4023A580#32
  | 3 => 0x3FBFCD26#32
  | 4 => 0xBF8EDF54#32
  | 5 => 0x3FE2D962#32
  | 6 => 0x3E5943DB#32
  | 7 => 0x3F80017A#32
  | 8 => 0x40B88FF8#32
  | 9 => 0x3EAB0749#32
  | 10 => 0x3DF1F5C1#32
  | 11 => 0xBEEA399B#32
  | 12 => 0x3F61F6E0#32
  | 13 => 0xBF48E58B#32
  | 14 => 0xBE265495#32
  | 15 => 0x3E4E69FE#32
  | 16 => 0xBEE347A7#32
  | 17 => 0xBE9539A7#32
  | 18 => 0x4020FC13#32
  | 19 => 0xBE92C73A#32
  | 20 => 0xBEF36687#32
  | 21 => 0x3E6A6E36#32
  | 22 => 0x3E051259#32
  | 23 => 0x3F5071EF#32
  | 24 => 0xBE4500E8#32
  | 25 => 0x3F07D560#32
  | 26 => 0xBF0E76EB#32
  | 27 => 0x3F84685D#32
  | 28 => 0xBF13E5AB#32
  | 29 => 0x3EDCC51E#32
  | 30 => 0xBF801236#32
  | 31 => 0xBF3BFC06#32
  | 32 => 0x3FBDAFEB#32
  | 33 => 0x3FCCA650#32
  | 34 => 0x40145E78#32
  | 35 => 0xBCE349CC#32
  | 36 => 0xBF1494D1#32
  | 37 => 0x3F98A619#32
  | 38 => 0x3FCC7316#32
  | 39 => 0xBF1BDE8A#32
  | 40 => 0xBF72D0A5#32
  | 41 => 0x3F0F6D92#32
  | 42 => 0xBEC21642#32
  | 43 => 0x3E7C50B8#32
  | 44 => 0xBF6E043C#32
  | 45 => 0x401454B5#32
  | 46 => 0x400D1771#32
  | 47 => 0xBF944475#32
  | 48 => 0x3FDDD9CE#32
  | 49 => 0xBFE223E3#32
  | 50 => 0x3F1E8635#32
  | 51 => 0x3F186CA6#32
  | 52 => 0x3FED6E94#32
  | 53 => 0x3F10398A#32
  | 54 => 0xBD5D8D4D#32
  | 55 => 0xBD424351#32
  | 56 => 0xBEC398D0#32
  | 57 => 0x3F58A503#32
  | 58 => 0x3EFF0FB0#32
  | 59 => 0x3F512953#32
  | 60 => 0x3FD0425D#32
  | 61 => 0x4024E5B3#32
  | 62 => 0x3F1363AB#32
  | 63 => 0x3EF0A8F7#32
  | 64 => 0x3F734B29#32
  | 65 => 0x3F296EE6#32
  | 66 => 0x3F77BF4E#32
  | 67 => 0x3FDCD3C4#32
  | 68 => 0x3EDDD10F#32
  | 69 => 0x3DCA54FB#32
  | 70 => 0x3F484D8A#32
  | 71 => 0x3F94B14A#32
  | 72 => 0x3E7CB007#32
  | 73 => 0xBF3F7A1F#32
  | 74 => 0xBD09358D#32
  | 75 => 0x3F2F1096#32
  | 76 => 0x4011AEF9#32
  | 77 => 0x400E0FB6#32
  | 78 => 0x3FF74A38#32
  | 79 => 0x3E98ED6E#32
  | 80 => 0xBDDBFD37#32
  | 81 => 0x3F4C03D0#32
  | 82 => 0xBF767C64#32
  | 83 => 0x3FC0BFA5#32
  | 84 => 0x3F65DA26#32
  | 85 => 0x3F5A78DD#32
  | 86 => 0x3F9B75FB#32
  | 87 => 0x3FB0294A#32
  | 88 => 0x3FAF9B10#32
  | 89 => 0x4001DB53#32
  | 90 => 0x3E1C8039#32
  | 91 => 0x3E9C16BC#32
  | 92 => 0x3E95D3C2#32
  | 93 => 0xBE887E75#32
  | 94 => 0x3F7E41A8#32
  | 95 => 0xBFA1242F#32
  | 96 => 0x3FA85C96#32
  | 97 => 0x3F7CFF90#32
  | 98 => 0x40182194#32
  | 99 => 0x3FEDE5D1#32
  | 100 => 0x3FD1F2A1#32
  | 101 => 0x3EDEECC7#32
  | 102 => 0x3E8673DD#32
  | 103 => 0xBF8C6E51#32
  | 104 => 0x3F94A9FC#32
  | 105 => 0x3E70A3CD#32
  | 106 => 0xBEA3460C#32
  | 107 => 0x3F94D579#32
  | 108 => 0x3F32C96E#32
  | 109 => 0x40473ED8#32
  | 110 => 0x3F106211#32
  | 111 => 0xBFAAD122#32
  | 112 => 0x3F30098C#32
  | 113 => 0xBBD3D457#32
  | 114 => 0x3FB48CA2#32
  | 115 => 0x3F8C74D1#32
  | 116 => 0x3F796453#32
  | 117 => 0xBF177F04#32
  | 118 => 0x3FB52034#32
  | 119 => 0x3F130AE7#32
  | 120 => 0xBEA26BB4#32
  | 121 => 0x3F658BEE#32
  | 122 => 0xBEC463B3#32
  | 123 => 0x3D21B90B#32
  | 124 => 0xBEA7297D#32
  | 125 => 0x3F0418D2#32
  | 126 => 0x3FA7F47D#32
  | 127 => 0x3ECEDB7F#32
  | _ => 0#32

noncomputable abbrev lit0t0_714 (i : Nat) : BitVec 32 := match i % 128 with
  | 0 => 0x3EDFB108#32
  | 1 => 0xBE13B967#32
  | 2 => 0xBEE4F6F0#32
  | 3 => 0x40028734#32
  | 4 => 0x40979A3B#32
  | 5 => 0x408CEF59#32
  | 6 => 0xBF847BC7#32
  | 7 => 0x4044FBC7#32
  | 8 => 0x3F83A11E#32
  | 9 => 0xBE14C3A5#32
  | 10 => 0x3E776130#32
  | 11 => 0x4081C9EB#32
  | 12 => 0x4058A65E#32
  | 13 => 0x3E6099CC#32
  | 14 => 0x3CF138F6#32
  | 15 => 0xBF1215C3#32
  | 16 => 0x3FD124F8#32
  | 17 => 0x40FDF7DB#32
  | 18 => 0x3EFC2F05#32
  | 19 => 0x3F9D24CE#32
  | 20 => 0x3F618D37#32
  | 21 => 0x3E815FCD#32
  | 22 => 0xBBE344C5#32
  | 23 => 0x40BEAB0A#32
  | 24 => 0xBF637084#32
  | 25 => 0xBF5C72D6#32
  | 26 => 0xBDE4C3E4#32
  | 27 => 0xBF1414D4#32
  | 28 => 0xBE14BC6E#32
  | 29 => 0x3FA9D188#32
  | 30 => 0xBEA3C81F#32
  | 31 => 0x3FFA3C94#32
  | 32 => 0x404B60C5#32
  | 33 => 0x3F82C90F#32
  | 34 => 0xBF376784#32
  | 35 => 0xBF71CBC7#32
  | 36 => 0x3FA82CFC#32
  | 37 => 0x3E3EE7BB#32
  | 38 => 0x406EDDA6#32
  | 39 => 0x4032FB88#32
  | 40 => 0x3FA07B6A#32
  | 41 => 0xBF8CA2F1#32
  | 42 => 0x402B3EC5#32
  | 43 => 0x3FDE3B9A#32
  | 44 => 0xBC53EC1D#32
  | 45 => 0x40132259#32
  | 46 => 0x3F8F11B1#32
  | 47 => 0x3F0007EF#32
  | 48 => 0x3F7695F0#32
  | 49 => 0x3F7A2D62#32
  | 50 => 0xBD5DA206#32
  | 51 => 0x3F9EA0E8#32
  | 52 => 0x40436C3E#32
  | 53 => 0x3ED3DDE9#32
  | 54 => 0x4002CEC8#32
  | 55 => 0xBF2CE573#32
  | 56 => 0x3F120B50#32
  | 57 => 0x4037380E#32
  | 58 => 0xBECAA06C#32
  | 59 => 0x3F4BCEB8#32
  | 60 => 0xBE9B714C#32
  | 61 => 0x3F164A97#32
  | 62 => 0x3EAFA78F#32
  | 63 => 0x403D18C8#32
  | 64 => 0x3FFA6BB8#32
  | 65 => 0x3F9060CF#32
  | 66 => 0x3E33D4B3#32
  | 67 => 0x3E12FA78#32
  | 68 => 0xBFB4210F#32
  | 69 => 0x3DB0BF50#32
  | 70 => 0xBE059521#32
  | 71 => 0xBF8FA8BE#32
  | 72 => 0xBF837054#32
  | 73 => 0xBEDFCAFA#32
  | 74 => 0x3F9F789E#32
  | 75 => 0x3EF76492#32
  | 76 => 0x3F31F434#32
  | 77 => 0x401D19D4#32
  | 78 => 0xBD999800#32
  | 79 => 0x3D377F71#32
  | 80 => 0x3D8E3B2F#32
  | 81 => 0x3F2FF634#32
  | 82 => 0xBF4C14E6#32
  | 83 => 0x4042579A#32
  | 84 => 0xBF4B14C2#32
  | 85 => 0xBEFFA0E6#32
  | 86 => 0x3F12C205#32
  | 87 => 0xBF63051E#32
  | 88 => 0xBD8A3015#32
  | 89 => 0x3FC46EC5#32
  | 90 => 0x3E93EDFB#32
  | 91 => 0xBDEA7FA2#32
  | 92 => 0x40775B3F#32
  | 93 => 0x3F8AF377#32
  | 94 => 0x3F220C31#32
  | 95 => 0x3FE6A52B#32
  | 96 => 0xBCF55842#32
  | 97 => 0x3FCD04D9#32
  | 98 => 0xBF5881A7#32
  | 99 => 0x3E53FC05#32
  | 100 => 0x3FB29674#32
  | 101 => 0x3F027B24#32
  | 102 => 0xBFA4B25F#32
  | 103 => 0x3FD3C97E#32
  | 104 => 0xBE447BBF#32
  | 105 => 0x3EC40AF2#32
  | 106 => 0x3EED593F#32
  | 107 => 0x4016671C#32
  | 108 => 0xBE8741C8#32
  | 109 => 0x3F9131F2#32
  | 110 => 0xBF008FFB#32
  | 111 => 0x3E3B4E84#32
  | 112 => 0xBF7EB412#32
  | 113 => 0xBFDBE3C0#32
  | 114 => 0xBE62D24B#32
  | 115 => 0x3E3C1EC2#32
  | 116 => 0xBEB50202#32
  | 117 => 0x408D1D53#32
  | 118 => 0xBDFD677E#32
  | 119 => 0x3EEA9B36#32
  | 120 => 0x3F58F727#32
  | 121 => 0x3EB96644#32
  | 122 => 0x3ED950A4#32
  | 123 => 0x3E95FC42#32
  | 124 => 0xBF6732EC#32
  | 125 => 0xBF2B7606#32
  | 126 => 0xBC7B5204#32
  | 127 => 0x3ED72E1D#32
  | _ => 0#32

noncomputable abbrev lit0t0_715 (i : Nat) : BitVec 32 := match i % 128 with
  | 0 => 0xBF42B4AC#32
  | 1 => 0xBE1DE792#32
  | 2 => 0xBD024E76#32
  | 3 => 0x3D6CD466#32
  | 4 => 0x3F82C4B4#32
  | 5 => 0xBF7D693C#32
  | 6 => 0x3FBD31EF#32
  | 7 => 0xBEE291B9#32
  | 8 => 0x4023FAE7#32
  | 9 => 0xBF262580#32
  | 10 => 0x3E5577C1#32
  | 11 => 0x3F06E19C#32
  | 12 => 0xBF9A7D86#32
  | 13 => 0x3DD720F9#32
  | 14 => 0x4015D9DC#32
  | 15 => 0xBF51995C#32
  | 16 => 0x409E25F3#32
  | 17 => 0x3F665563#32
  | 18 => 0x402E84DE#32
  | 19 => 0x3E6EC7E5#32
  | 20 => 0xBF8B4155#32
  | 21 => 0x3F8D5776#32
  | 22 => 0x3FD38BE4#32
  | 23 => 0xBE067253#32
  | 24 => 0x3EE65DF3#32
  | 25 => 0x3FCE3276#32
  | 26 => 0xBE921D3B#32
  | 27 => 0xBEE8C3E4#32
  | 28 => 0xBED79166#32
  | 29 => 0xBF84BC41#32
  | 30 => 0xBFAFB447#32
  | 31 => 0xBDF07C6C#32
  | 32 => 0x3EB43F7F#32
  | 33 => 0x4037F92F#32
  | 34 => 0x3F8F456C#32
  | 35 => 0xBF13F0CA#32
  | 36 => 0x3FDC0370#32
  | 37 => 0x3FF80AA2#32
  | 38 => 0xBF6531BC#32
  | 39 => 0xBF803A94#32
  | 40 => 0x3FA2859D#32
  | 41 => 0x3F9045FA#32
  | 42 => 0x3F30D1D4#32
  | 43 => 0x3E3AD259#32
  | 44 => 0x3FCF2876#32
  | 45 => 0x4002159E#32
  | 46 => 0x3F3DAEAA#32
  | 47 => 0x3F8A6464#32
  | 48 => 0xBE0B8562#32
  | 49 => 0xBFDE2408#32
  | 50 => 0xBD64D222#32
  | 51 => 0xBF70E48F#32
  | 52 => 0x3F697008#32
  | 53 => 0x3FA22136#32
  | 54 => 0x3DA75E24#32
  | 55 => 0xBE1485BA#32
  | 56 => 0x3EB1FDF2#32
  | 57 => 0xBECFEFC3#32
  | 58 => 0xBC70760D#32
  | 59 => 0xBEBE2DA5#32
  | 60 => 0xBE4C9E55#32
  | 61 => 0xBF89647A#32
  | 62 => 0xBF917D8E#32
  | 63 => 0xBFA254F6#32
  | 64 => 0xBE8F8E93#32
  | 65 => 0xBE481529#32
  | 66 => 0xBF094F94#32
  | 67 => 0xBF796EDC#32
  | 68 => 0xBED4A3FF#32
  | 69 => 0x40056202#32
  | 70 => 0xBFCFFD86#32
  | 71 => 0x3F0A92EC#32
  | 72 => 0xBF6312C3#32
  | 73 => 0xBEFD0936#32
  | 74 => 0x3EE0E66E#32
  | 75 => 0xBF04C91E#32
  | 76 => 0x3E3892A6#32
  | 77 => 0xBEB15954#32
  | 78 => 0xBEA22A6C#32
  | 79 => 0xBE84B724#32
  | 80 => 0x40BDCE7B#32
  | 81 => 0x3F791B06#32
  | 82 => 0x401B50E4#32
  | 83 => 0x3EB8121A#32
  | 84 => 0xBEAF3959#32
  | 85 => 0xBF421696#32
  | 86 => 0x3F4AD61D#32
  | 87 => 0x40686E97#32
  | 88 => 0x4057A4B0#32
  | 89 => 0xBFE4CB9C#32
  | 90 => 0x3F869023#32
  | 91 => 0x3F47ED33#32
  | 92 => 0xBF284242#32
  | 93 => 0x3F439303#32
  | 94 => 0x40A2491C#32
  | 95 => 0x3DE11D4A#32
  | 96 => 0xBF71A55A#32
  | 97 => 0x3F390EF7#32
  | 98 => 0xBEFFECDE#32
  | 99 => 0xBFAA798B#32
  | 100 => 0xBF9DD082#32
  | 101 => 0x3F12C35C#32
  | 102 => 0x3F15691F#32
  | 103 => 0x3F2B9945#32
  | 104 => 0x3F285BE3#32
  | 105 => 0x3F85F0F5#32
  | 106 => 0x3F80CD5A#32
  | 107 => 0xBE9FD892#32
  | 108 => 0x3FD423B1#32
  | 109 => 0x3ED2C54D#32
  | 110 => 0xBEF2CBFA#32
  | 111 => 0xBE84FD14#32
  | 112 => 0x3F2B1700#32
  | 113 => 0x3D8F0DD3#32
  | 114 => 0xBF598BBF#32
  | 115 => 0x3F0347EC#32
  | 116 => 0xBC905498#32
  | 117 => 0x40454175#32
  | 118 => 0xBE0050F4#32
  | 119 => 0xBEBC2F02#32
  | 120 => 0xBEB4EEEA#32
  | 121 => 0xBC01D96D#32
  | 122 => 0x3EB00E22#32
  | 123 => 0x402D35F5#32
  | 124 => 0x3E9758A4#32
  | 125 => 0x3FC6B44C#32
  | 126 => 0xBFA7AF0C#32
  | 127 => 0x38B5C204#32
  | _ => 0#32

noncomputable abbrev lit0t0_716 (i : Nat) : BitVec 32 := match i % 128 with
  | 0 => 0xBF004D6E#32
  | 1 => 0xBE962014#32
  | 2 => 0x3EF81045#32
  | 3 => 0x3F8E9D07#32
  | 4 => 0xBE83573D#32
  | 5 => 0x40326319#32
  | 6 => 0x40B56743#32
  | 7 => 0xBF6A4F74#32
  | 8 => 0x4026FEA6#32
  | 9 => 0x4019689B#32
  | 10 => 0x401BF634#32
  | 11 => 0x3F22408B#32
  | 12 => 0xBE5F695D#32
  | 13 => 0x3F0BF856#32
  | 14 => 0xBE9965A2#32
  | 15 => 0x3F5192BB#32
  | 16 => 0x3E15895E#32
  | 17 => 0xBDA6AE9C#32
  | 18 => 0x4029E99B#32
  | 19 => 0xBE97C07B#32
  | 20 => 0x401F98DD#32
  | 21 => 0x401803DD#32
  | 22 => 0x3EB5CE02#32
  | 23 => 0xBDED1CAE#32
  | 24 => 0x3FD6C512#32
  | 25 => 0xBF5A292C#32
  | 26 => 0x4021838E#32
  | 27 => 0x3E168C76#32
  | 28 => 0xBE1D61FD#32
  | 29 => 0x3FAB6B2E#32
  | 30 => 0xBF4BD2CE#32
  | 31 => 0x3DFC137A#32
  | 32 => 0xBEAABDFB#32
  | 33 => 0x3EF344F7#32
  | 34 => 0x3F0F8E71#32
  | 35 => 0xBF1E8AB6#32
  | 36 => 0xBF3419E4#32
  | 37 => 0x3EA01C85#32
  | 38 => 0x3EA1BE60#32
  | 39 => 0x3ECE6097#32
  | 40 => 0x3FBD146D#32
  | 41 => 0xBF4CB92C#32
  | 42 => 0x3F2C9A3A#32
  | 43 => 0x3FF36AB6#32
  | 44 => 0x3FF003AE#32
  | 45 => 0x404D3747#32
  | 46 => 0xBF16FF5A#32
  | 47 => 0x3FC852F7#32
  | 48 => 0x3FF777C0#32
  | 49 => 0x3FDFEFE1#32
  | 50 => 0x3F93C953#32
  | 51 => 0x3EA41F89#32
  | 52 => 0x3FE8E762#32
  | 53 => 0x3FB7AE96#32
  | 54 => 0xBFA3484D#32
  | 55 => 0x3EAA0647#32
  | 56 => 0x3FADFD92#32
  | 57 => 0x3F496796#32
  | 58 => 0xBEBC990C#32
  | 59 => 0xBFCBE0F8#32
  | 60 => 0x3E4E5246#32
  | 61 => 0xBF3C6CC9#32
  | 62 => 0x3F59CDB4#32
  | 63 => 0x3F4E0F62#32
  | 64 => 0x3E486B16#32
  | 65 => 0x4018D6FC#32
  | 66 => 0x3D55AAD0#32
  | 67 => 0x3EF585A6#32
  | 68 => 0x3FE926DC#32
  | 69 => 0x3DA56007#32
  | 70 => 0x403BCD75#32
  | 71 => 0x400BC75F#32
  | 72 => 0xBF5B0DFB#32
  | 73 => 0xBE96570A#32
  | 74 => 0xBF5A08BA#32
  | 75 => 0xBE42D33E#32
  | 76 => 0xBCCE1702#32
  | 77 => 0xBEB85DC3#32
  | 78 => 0x3E0BB5E1#32
  | 79 => 0x3E2DBED6#32
  | 80 => 0x3EFF7385#32
  | 81 => 0x3F9CDEAC#32
  | 82 => 0x405312EE#32
  | 83 => 0x3F9E3F78#32
  | 84 => 0x40734E33#32
  | 85 => 0x3F16132D#32
  | 86 => 0x3F347735#32
  | 87 => 0x3E9F20B5#32
  | 88 => 0x4090D26A#32
  | 89 => 0xBF6B5BBB#32
  | 90 => 0x3F76FC5A#32
  | 91 => 0x3E566F45#32
  | 92 => 0xBD7DE524#32
  | 93 => 0xBF908AA6#32
  | 94 => 0x3DE9E991#32
  | 95 => 0xBEC6DA4C#32
  | 96 => 0xBF4E8AB1#32
  | 97 => 0x3EB3C8F8#32
  | 98 => 0xBEE726B1#32
  | 99 => 0x3F572E9F#32
  | 100 => 0x3EA3D9D4#32
  | 101 => 0xBEABE763#32
  | 102 => 0x3FB8F83C#32
  | 103 => 0x3FACFFDE#32
  | 104 => 0x404881E7#32
  | 105 => 0x3FDD6D34#32
  | 106 => 0x3F882D94#32
  | 107 => 0x3F53EE15#32
  | 108 => 0xBE40B920#32
  | 109 => 0x400FB756#32
  | 110 => 0x4034965F#32
  | 111 => 0xBF8EBBB4#32
  | 112 => 0xBF4E0019#32
  | 113 => 0xBD4F12E5#32
  | 114 => 0x40593286#32
  | 115 => 0x40A37BA8#32
  | 116 => 0x3EFFA4AE#32
  | 117 => 0xBF60D2D0#32
  | 118 => 0x3F4FEBC8#32
  | 119 => 0xBF2954D0#32
  | 120 => 0xBD3ABB97#32
  | 121 => 0x3E174CE5#32
  | 122 => 0xBF8573A8#32
  | 123 => 0x3F3B292E#32
  | 124 => 0xBE5C9561#32
  | 125 => 0x3F6BFA42#32
  | 126 => 0x3F4312A0#32
  | 127 => 0x3F0E3D5A#32
  | _ => 0#32

noncomputable abbrev lit0t0_717 (i : Nat) : BitVec 32 := match i % 128 with
  | 0 => 0xBD62F54A#32
  | 1 => 0xBF8C0939#32
  | 2 => 0xBE99F5C3#32
  | 3 => 0x3F84619B#32
  | 4 => 0xBF1BC2CA#32
  | 5 => 0xBDE0E4F4#32
  | 6 => 0x3F0B1FF3#32
  | 7 => 0x3F02AC54#32
  | 8 => 0x3F9F11AA#32
  | 9 => 0x3F4BFBA6#32
  | 10 => 0x3F299B6E#32
  | 11 => 0x3FC5C4B6#32
  | 12 => 0xBE78BDAA#32
  | 13 => 0x40849504#32
  | 14 => 0x3F82FA93#32
  | 15 => 0xBE648251#32
  | 16 => 0x3F91796A#32
  | 17 => 0x4006F892#32
  | 18 => 0x3EA272C9#32
  | 19 => 0x3FD92A9E#32
  | 20 => 0x3E94B0A8#32
  | 21 => 0x3F733160#32
  | 22 => 0x40080760#32
  | 23 => 0x3FA0AF68#32
  | 24 => 0x3E400310#32
  | 25 => 0xBF33B4BC#32
  | 26 => 0x3FAA8781#32
  | 27 => 0x3EA724ED#32
  | 28 => 0x3FC08713#32
  | 29 => 0x40915A5F#32
  | 30 => 0xBE620FE7#32
  | 31 => 0x3EDB5C31#32
  | 32 => 0xBFA00525#32
  | 33 => 0xBF225D5E#32
  | 34 => 0xBE9C41FB#32
  | 35 => 0x3F3D2008#32
  | 36 => 0xBF04A60A#32
  | 37 => 0x3E4F2468#32
  | 38 => 0xBEA517E0#32
  | 39 => 0xBE9E2AE6#32
  | 40 => 0x40428014#32
  | 41 => 0xBF963102#32
  | 42 => 0x40E741ED#32
  | 43 => 0xBECBA71B#32
  | 44 => 0x3FA506E3#32
  | 45 => 0x40573C9C#32
  | 46 => 0x40AB8505#32
  | 47 => 0x401D5586#32
  | 48 => 0x3F8D1FA2#32
  | 49 => 0x3C8A51C4#32
  | 50 => 0x3EC103F5#32
  | 51 => 0xBE1BE702#32
  | 52 => 0x3EC0292F#32
  | 53 => 0xBFFA5FAA#32
  | 54 => 0xBF2B3877#32
  | 55 => 0x3F43849D#32
  | 56 => 0x3FA473E9#32
  | 57 => 0xBF30C27C#32
  | 58 => 0x3F70DF90#32
  | 59 => 0x3FD6FD0C#32
  | 60 => 0x3F9F069C#32
  | 61 => 0x3FD47C20#32
  | 62 => 0xBED87EE0#32
  | 63 => 0x3FDFF7BD#32
  | 64 => 0x40292B36#32
  | 65 => 0xBE50517F#32
  | 66 => 0x3FC3AE7E#32
  | 67 => 0x3E002786#32
  | 68 => 0x3FA6DECE#32
  | 69 => 0x401F5C6A#32
  | 70 => 0x3F07BBB1#32
  | 71 => 0x3F65385C#32
  | 72 => 0x3E6F8C5D#32
  | 73 => 0x3F83C5FA#32
  | 74 => 0x400D78B4#32
  | 75 => 0x3F82852A#32
  | 76 => 0x405978F9#32
  | 77 => 0xBF19C446#32
  | 78 => 0x3E789EB8#32
  | 79 => 0xBF1DE7A3#32
  | 80 => 0xBE3E6D27#32
  | 81 => 0x404545D4#32
  | 82 => 0xBF7464B0#32
  | 83 => 0xBF9AB593#32
  | 84 => 0x4040C68F#32
  | 85 => 0xBF1B8520#32
  | 86 => 0x3F9E9B6D#32
  | 87 => 0x3DD80FF2#32
  | 88 => 0xBED6B92A#32
  | 89 => 0x400CC6F3#32
  | 90 => 0x3F66BEB6#32
  | 91 => 0x3FE3A275#32
  | 92 => 0xBFB9E403#32
  | 93 => 0x406B73DC#32
  | 94 => 0x403C72B8#32
  | 95 => 0xBE3CC3C5#32
  | 96 => 0x3F9E3F13#32
  | 97 => 0x402E8816#32
  | 98 => 0x3F89A131#32
  | 99 => 0xBEDB68A3#32
  | 100 => 0x3E1309D1#32
  | 101 => 0x3F85B277#32
  | 102 => 0xBE3D1A9C#32
  | 103 => 0xBE901532#32
  | 104 => 0xBF694BCD#32
  | 105 => 0xBFAA2FC3#32
  | 106 => 0xBE82F322#32
  | 107 => 0xBCCD51C6#32
  | 108 => 0x3F7C91D6#32
  | 109 => 0xBF409242#32
  | 110 => 0x3E1B1006#32
  | 111 => 0xBF49E283#32
  | 112 => 0x3EFB2ECA#32
  | 113 => 0x3F86B5C9#32
  | 114 => 0x400E3621#32
  | 115 => 0x4099B78B#32
  | 116 => 0xBF619272#32
  | 117 => 0xBF06BB42#32
  | 118 => 0xBE806564#32
  | 119 => 0xBF0C941A#32
  | 120 => 0x401B3831#32
  | 121 => 0xBD71BFB5#32
  | 122 => 0x4076674A#32
  | 123 => 0x3F5C3A8A#32
  | 124 => 0x3DD10A20#32
  | 125 => 0xBC6909B6#32
  | 126 => 0x3FBFFCD8#32
  | 127 => 0x3EC3A8CE#32
  | _ => 0#32

noncomputable abbrev lit0t0_718 (i : Nat) : BitVec 32 := match i % 128 with
  | 0 => 0x3FCBE1BF#32
  | 1 => 0x3F039FEC#32
  | 2 => 0x4039BEA3#32
  | 3 => 0xBF0D3738#32
  | 4 => 0xBEE64192#32
  | 5 => 0xBFB2B800#32
  | 6 => 0xBE89E002#32
  | 7 => 0xBED972BE#32
  | 8 => 0x3EF99EE7#32
  | 9 => 0xBEFBFBE0#32
  | 10 => 0xBEFD34B6#32
  | 11 => 0xBF1B73C1#32
  | 12 => 0xBF071495#32
  | 13 => 0x3F970B63#32
  | 14 => 0x3FBA5A33#32
  | 15 => 0x40011D5C#32
  | 16 => 0x3F61865F#32
  | 17 => 0x40818398#32
  | 18 => 0xBE9FC878#32
  | 19 => 0x3FCF1BEB#32
  | 20 => 0x3F918430#32
  | 21 => 0x3F5EF822#32
  | 22 => 0x40377F93#32
  | 23 => 0x3E96BC22#32
  | 24 => 0xBE973CF8#32
  | 25 => 0xBDD19706#32
  | 26 => 0x4054EB94#32
  | 27 => 0x3F030C74#32
  | 28 => 0x407D3DE7#32
  | 29 => 0xBE8BAB16#32
  | 30 => 0x400DA58A#32
  | 31 => 0x404A8275#32
  | 32 => 0x3F2DDA23#32
  | 33 => 0x3EF3EF56#32
  | 34 => 0xBEFAE968#32
  | 35 => 0x3FFA66FA#32
  | 36 => 0xBF80EAD9#32
  | 37 => 0x4040C9DA#32
  | 38 => 0x3FDABCA4#32
  | 39 => 0x3EDA2D40#32
  | 40 => 0xBFAAEC90#32
  | 41 => 0xBF96E814#32
  | 42 => 0x3E719B11#32
  | 43 => 0xBEBD3873#32
  | 44 => 0xBFAEB9B3#32
  | 45 => 0x3E5EFB66#32
  | 46 => 0x3E978767#32
  | 47 => 0x3E62303E#32
  | 48 => 0x40225CC0#32
  | 49 => 0x3F72FE3B#32
  | 50 => 0x3EE74068#32
  | 51 => 0x3F24637C#32
  | 52 => 0x402D9BF8#32
  | 53 => 0x3FFA005B#32
  | 54 => 0x3FF75439#32
  | 55 => 0x3F25811F#32
  | 56 => 0xBC8AE7CF#32
  | 57 => 0xBF44641D#32
  | 58 => 0x3DA1D692#32
  | 59 => 0x3FFEDC39#32
  | 60 => 0xBEC11B3D#32
  | 61 => 0xBF4DD5E3#32
  | 62 => 0x3F7161FB#32
  | 63 => 0x405BF4CD#32
  | 64 => 0xC009A487#32
  | 65 => 0x3E24EEC0#32
  | 66 => 0xBE7AB7B6#32
  | 67 => 0x3CC10D48#32
  | 68 => 0x402765E1#32
  | 69 => 0xBF879363#32
  | 70 => 0xBEB668A4#32
  | 71 => 0x3F358785#32
  | 72 => 0x3CC93155#32
  | 73 => 0x403A97BA#32
  | 74 => 0x40A29BC3#32
  | 75 => 0x403601C5#32
  | 76 => 0x3EE65530#32
  | 77 => 0x40588CBD#32
  | 78 => 0xBEBABE77#32
  | 79 => 0x40753A68#32
  | 80 => 0xBF1EEBF6#32
  | 81 => 0x3FFF01ED#32
  | 82 => 0xBEDDA015#32
  | 83 => 0x3FF5DE78#32
  | 84 => 0x3EE82E63#32
  | 85 => 0x3E7904DD#32
  | 86 => 0x3F3D53F8#32
  | 87 => 0x3D479C15#32
  | 88 => 0x3E091B0A#32
  | 89 => 0x40B4F290#32
  | 90 => 0x4044F3E0#32
  | 91 => 0x3F18FC00#32
  | 92 => 0xBE293568#32
  | 93 => 0xBF462B84#32
  | 94 => 0x401E370C#32
  | 95 => 0x3F7184D0#32
  | 96 => 0xBE640651#32
  | 97 => 0xBDBCF0A1#32
  | 98 => 0xBEABBAC9#32
  | 99 => 0x3FC00379#32
  | 100 => 0x3F89F907#32
  | 101 => 0xBF01D790#32
  | 102 => 0x3F0630DB#32
  | 103 => 0x3FE05EA2#32
  | 104 => 0xBEE1AECB#32
  | 105 => 0x3FBEBCD8#32
  | 106 => 0x40577756#32
  | 107 => 0x3F0B6364#32
  | 108 => 0x3E8BF368#32
  | 109 => 0xBE124C07#32
  | 110 => 0x40051ED7#32
  | 111 => 0xBE3FEA3E#32
  | 112 => 0x3F9AA21F#32
  | 113 => 0xBE6DFBFD#32
  | 114 => 0xBE550517#32
  | 115 => 0x3F45E243#32
  | 116 => 0x3EB7D034#32
  | 117 => 0x3F7C7052#32
  | 118 => 0x3E17ABD3#32
  | 119 => 0x3FD0BB84#32
  | 120 => 0xBE7C8F1C#32
  | 121 => 0x3FC38674#32
  | 122 => 0x3F98043A#32
  | 123 => 0xBF855F8F#32
  | 124 => 0xBF0A5993#32
  | 125 => 0x3F817800#32
  | 126 => 0x3F5AA8F4#32
  | 127 => 0xBE3AB324#32
  | _ => 0#32

noncomputable abbrev lit0t0_719 (i : Nat) : BitVec 32 := match i % 128 with
  | 0 => 0x3F299C16#32
  | 1 => 0x3D674DA1#32
  | 2 => 0x4015712F#32
  | 3 => 0x3FBFC9EF#32
  | 4 => 0xBF9545F2#32
  | 5 => 0x3F8DFAD0#32
  | 6 => 0x3FF16AAE#32
  | 7 => 0xBEADBD3D#32
  | 8 => 0xBF963E18#32
  | 9 => 0x3F040BDD#32
  | 10 => 0xBECFF717#32
  | 11 => 0x3F9428BD#32
  | 12 => 0x3E7D8D6C#32
  | 13 => 0x3F29D0F3#32
  | 14 => 0x40303E07#32
  | 15 => 0x3E59E57B#32
  | 16 => 0xBF460968#32
  | 17 => 0x3DAC5002#32
  | 18 => 0xBF608424#32
  | 19 => 0x40902837#32
  | 20 => 0x400E0116#32
  | 21 => 0xBF360E61#32
  | 22 => 0x3FEC9A5C#32
  | 23 => 0x3F0547F2#32
  | 24 => 0x3FE0F998#32
  | 25 => 0x3EA44E56#32
  | 26 => 0xBD632F1F#32
  | 27 => 0x3D183E4C#32
  | 28 => 0xBE6249CF#32
  | 29 => 0xBF427D7B#32
  | 30 => 0x4031BE35#32
  | 31 => 0x3E8AE5D8#32
  | 32 => 0xBE330C3A#32
  | 33 => 0xBE96AC52#32
  | 34 => 0x3FCEA778#32
  | 35 => 0x3DE78953#32
  | 36 => 0x3D892B88#32
  | 37 => 0x3FC16AC6#32
  | 38 => 0x3F671B4E#32
  | 39 => 0xBDCE7288#32
  | 40 => 0x3F514E01#32
  | 41 => 0x401C20C5#32
  | 42 => 0xBE976DCA#32
  | 43 => 0x3F85A72E#32
  | 44 => 0xBEABB8A6#32
  | 45 => 0x3E1EF802#32
  | 46 => 0xBF1B1810#32
  | 47 => 0xBF7C54FD#32
  | 48 => 0x400BD3F4#32
  | 49 => 0xBEC88677#32
  | 50 => 0x3FCADE4A#32
  | 51 => 0x3F65B00D#32
  | 52 => 0xBF622F7A#32
  | 53 => 0x3FD02624#32
  | 54 => 0xBFB23A4E#32
  | 55 => 0x40629FE8#32
  | 56 => 0xBFA03EBD#32
  | 57 => 0x3FD115E3#32
  | 58 => 0x3D20AE82#32
  | 59 => 0x3E154918#32
  | 60 => 0x3F3FFE68#32
  | 61 => 0x3FBC11FE#32
  | 62 => 0xBF679107#32
  | 63 => 0x3EC4BD14#32
  | 64 => 0x3CAAC70D#32
  | 65 => 0xBE8C0B3E#32
  | 66 => 0xBEFB86F6#32
  | 67 => 0x3F9C4F08#32
  | 68 => 0x3F3E7ED0#32
  | 69 => 0xBDCDBB6B#32
  | 70 => 0x3FDAFA67#32
  | 71 => 0xBF427359#32
  | 72 => 0xBE290F28#32
  | 73 => 0x4041ED07#32
  | 74 => 0xBF042D6E#32
  | 75 => 0xBDD50599#32
  | 76 => 0x3F94DBB0#32
  | 77 => 0x4012D3AF#32
  | 78 => 0x3D35F840#32
  | 79 => 0x3F232B47#32
  | 80 => 0xBF260783#32
  | 81 => 0x3E6AF6B3#32
  | 82 => 0x3FAB048C#32
  | 83 => 0x3F3BE123#32
  | 84 => 0x3DA4E54C#32
  | 85 => 0x3FFE1BEC#32
  | 86 => 0x3EE51117#32
  | 87 => 0x3F9728FE#32
  | 88 => 0xBD7153C3#32
  | 89 => 0x3D460CB8#32
  | 90 => 0xBF6C190A#32
  | 91 => 0x3EF79963#32
  | 92 => 0x3F691094#32
  | 93 => 0x3E74A61A#32
  | 94 => 0x3F9B623A#32
  | 95 => 0x3F7F13E4#32
  | 96 => 0xBF6AA57C#32
  | 97 => 0x4077E7E1#32
  | 98 => 0x4065ED1B#32
  | 99 => 0x3E3DD9C2#32
  | 100 => 0x3E27928F#32
  | 101 => 0xBF8989A7#32
  | 102 => 0x3DEAB481#32
  | 103 => 0xBF1B9A50#32
  | 104 => 0xBF795E24#32
  | 105 => 0xBED66D03#32
  | 106 => 0xBF147AAB#32
  | 107 => 0xBF37D759#32
  | 108 => 0x3E50BF95#32
  | 109 => 0x3F99FCB4#32
  | 110 => 0x3E4A011D#32
  | 111 => 0x3F848B34#32
  | 112 => 0x3E3C6B26#32
  | 113 => 0x3FAA5DDF#32
  | 114 => 0x3F0C1C07#32
  | 115 => 0xBDA02F85#32
  | 116 => 0x3F751B85#32
  | 117 => 0x3F8BB148#32
  | 118 => 0x3F50D83C#32
  | 119 => 0x3F2EC7C0#32
  | 120 => 0x3FDA482C#32
  | 121 => 0xBE007973#32
  | 122 => 0x3CAB4E38#32
  | 123 => 0x3EF38C4A#32
  | 124 => 0x3F30D4D6#32
  | 125 => 0x400AED14#32
  | 126 => 0x402C619E#32
  | 127 => 0x4022E8E4#32
  | _ => 0#32

noncomputable abbrev lit0t0_720 (i : Nat) : BitVec 32 := match i % 128 with
  | 0 => 0xBFA04896#32
  | 1 => 0xBF4C02CC#32
  | 2 => 0x3E06AA30#32
  | 3 => 0x3F1ADC31#32
  | 4 => 0xBF4ABFD1#32
  | 5 => 0x3EE0D4E1#32
  | 6 => 0x401480E5#32
  | 7 => 0x3F7DCB50#32
  | 8 => 0x4057F97F#32
  | 9 => 0x3FA715D1#32
  | 10 => 0x3E8051A4#32
  | 11 => 0x3F3202E7#32
  | 12 => 0x3FE623AE#32
  | 13 => 0x4004300E#32
  | 14 => 0xBE1C7646#32
  | 15 => 0x3CEC0871#32
  | 16 => 0x3FAEB72A#32
  | 17 => 0x3EC7CA15#32
  | 18 => 0xBA6B54F3#32
  | 19 => 0x3DD6A191#32
  | 20 => 0xBDB81837#32
  | 21 => 0x3E155325#32
  | 22 => 0xBFA6B043#32
  | 23 => 0x3F85384A#32
  | 24 => 0x3F210B89#32
  | 25 => 0x3F91B8DC#32
  | 26 => 0xBD05A005#32
  | 27 => 0xBDFEE406#32
  | 28 => 0xBFA23B46#32
  | 29 => 0x3F8E13B2#32
  | 30 => 0xBEF00F22#32
  | 31 => 0x3F08085A#32
  | 32 => 0x401E83E0#32
  | 33 => 0xBDBC3CCB#32
  | 34 => 0xBEDFAF66#32
  | 35 => 0xBE1E7BE2#32
  | 36 => 0xBF6B6623#32
  | 37 => 0xBF3936FB#32
  | 38 => 0xBF36775C#32
  | 39 => 0x3E7DE515#32
  | 40 => 0x3F14EFDA#32
  | 41 => 0x400C0D2F#32
  | 42 => 0x405AE9DB#32
  | 43 => 0x3FAE0E3F#32
  | 44 => 0x3E8FF35A#32
  | 45 => 0x3F4D2A62#32
  | 46 => 0x3FF2F486#32
  | 47 => 0xBF00FA59#32
  | 48 => 0xBED1E230#32
  | 49 => 0x3F6B07BF#32
  | 50 => 0xBEACA41E#32
  | 51 => 0x3E7440C5#32
  | 52 => 0xBF9FBE23#32
  | 53 => 0x3F9AFEF3#32
  | 54 => 0xBCC73E68#32
  | 55 => 0x408FF215#32
  | 56 => 0x3F6CCF78#32
  | 57 => 0xBF62932C#32
  | 58 => 0x3FB1F342#32
  | 59 => 0xBFA71B6F#32
  | 60 => 0xBF63FB6C#32
  | 61 => 0xBDFB1678#32
  | 62 => 0x3E89819F#32
  | 63 => 0x3F1718F7#32
  | 64 => 0xBEDE4027#32
  | 65 => 0xBE65FA8B#32
  | 66 => 0x3C8F10F5#32
  | 67 => 0xBE74263E#32
  | 68 => 0x3E7D882E#32
  | 69 => 0x3DF8CFB6#32
  | 70 => 0xBF8028AC#32
  | 71 => 0x3F8AAA65#32
  | 72 => 0xBE6419F3#32
  | 73 => 0x3DA92386#32
  | 74 => 0xBF60C84B#32
  | 75 => 0x40BCC52F#32
  | 76 => 0xBF542F4E#32
  | 77 => 0xBF026926#32
  | 78 => 0xBF9EAEF1#32
  | 79 => 0xBF00EBE0#32
  | 80 => 0xBF227FFE#32
  | 81 => 0xBF09638F#32
  | 82 => 0xBF48059F#32
  | 83 => 0xBF41D5B2#32
  | 84 => 0xBF099C65#32
  | 85 => 0x4092C6A6#32
  | 86 => 0x408404A0#32
  | 87 => 0xBF713A02#32
  | 88 => 0xBF71C33C#32
  | 89 => 0x3F8AE23C#32
  | 90 => 0x3F1C2640#32
  | 91 => 0x3E2DE7A5#32
  | 92 => 0xBFCAF7E8#32
  | 93 => 0x3F89C625#32
  | 94 => 0x3E972B90#32
  | 95 => 0xBEC76687#32
  | 96 => 0xBEA99A15#32
  | 97 => 0xBD2121A7#32
  | 98 => 0x3F23B3DE#32
  | 99 => 0x4020F9AA#32
  | 100 => 0x406F9C42#32
  | 101 => 0xBE82AED4#32
  | 102 => 0x402AFFDC#32
  | 103 => 0xBF4860EE#32
  | 104 => 0xBF8E61CC#32
  | 105 => 0x3FA7D2AC#32
  | 106 => 0x3E1A0851#32
  | 107 => 0x3E399CB0#32
  | 108 => 0xBEF5D9BC#32
  | 109 => 0x402067A8#32
  | 110 => 0xBF93DE4E#32
  | 111 => 0x40457D88#32
  | 112 => 0x3E9B112E#32
  | 113 => 0xBE3CA28E#32
  | 114 => 0xBF9AE1EA#32
  | 115 => 0xBF7B511D#32
  | 116 => 0x3F2CC636#32
  | 117 => 0x40837099#32
  | 118 => 0x400A6E66#32
  | 119 => 0x3E598914#32
  | 120 => 0x3F339A1D#32
  | 121 => 0x3FDB9912#32
  | 122 => 0xBF4E9D57#32
  | 123 => 0xBEB84F01#32
  | 124 => 0x4048F8EA#32
  | 125 => 0x400B57E0#32
  | 126 => 0xBFA4C10D#32
  | 127 => 0xBD49761D#32
  | _ => 0#32

noncomputable abbrev lit0t0_721 (i : Nat) : BitVec 32 := match i % 128 with
  | 0 => 0xBFA87B49#32
  | 1 => 0x3F8E091E#32
  | 2 => 0xBEC57380#32
  | 3 => 0xBEFF79CA#32
  | 4 => 0xBF8C77D6#32
  | 5 => 0x3F413A67#32
  | 6 => 0x3D8F13CA#32
  | 7 => 0xBEB142ED#32
  | 8 => 0x3F2DC73A#32
  | 9 => 0xBE36A4B5#32
  | 10 => 0xBFAAC20C#32
  | 11 => 0x3FF1DB74#32
  | 12 => 0xBF52A80C#32
  | 13 => 0xBF9B8475#32
  | 14 => 0x3F0C91CA#32
  | 15 => 0xBEFEEA2D#32
  | 16 => 0x405E3B63#32
  | 17 => 0x3E81C99F#32
  | 18 => 0x3EA400B5#32
  | 19 => 0x3FF94D22#32
  | 20 => 0x3F3747AC#32
  | 21 => 0x3FB35DC7#32
  | 22 => 0x3FD2FBAE#32
  | 23 => 0x3EF7880E#32
  | 24 => 0xBDEFC2E1#32
  | 25 => 0x40696AB9#32
  | 26 => 0x401F2A79#32
  | 27 => 0x3FDFCC48#32
  | 28 => 0xBF0C2E52#32
  | 29 => 0xBE79F55A#32
  | 30 => 0x3FE5B034#32
  | 31 => 0xBDB8AD5B#32
  | 32 => 0x4052402D#32
  | 33 => 0x3F49B224#32
  | 34 => 0x3F2D2061#32
  | 35 => 0x3DBE6D30#32
  | 36 => 0x3F6C75B3#32
  | 37 => 0xBEE1A5CE#32
  | 38 => 0x3FD9BA4B#32
  | 39 => 0x3EAF34D4#32
  | 40 => 0x3FA6B4F2#32
  | 41 => 0xBEED8320#32
  | 42 => 0xBC8A4983#32
  | 43 => 0x3E69C9B8#32
  | 44 => 0xBEE47B58#32
  | 45 => 0x3C487CC0#32
  | 46 => 0xBE9CE07A#32
  | 47 => 0x3D34CB9A#32
  | 48 => 0xBFC16F56#32
  | 49 => 0xBE84213B#32
  | 50 => 0x40381ECA#32
  | 51 => 0x3EB89969#32
  | 52 => 0x3E4A580C#32
  | 53 => 0xBF5290F0#32
  | 54 => 0xBF2B2098#32
  | 55 => 0x40636A13#32
  | 56 => 0x4010B0BC#32
  | 57 => 0xBF4F1740#32
  | 58 => 0xBF740914#32
  | 59 => 0xBF2D1381#32
  | 60 => 0x3E82E1A3#32
  | 61 => 0xBF5CD936#32
  | 62 => 0x3F3A208F#32
  | 63 => 0x3DEABAD0#32
  | 64 => 0x3F821CC4#32
  | 65 => 0xBEB19423#32
  | 66 => 0x4004F91C#32
  | 67 => 0x3F6BC164#32
  | 68 => 0xBFC0F4AD#32
  | 69 => 0x404E9D85#32
  | 70 => 0xBE028EC3#32
  | 71 => 0x3EC31B1D#32
  | 72 => 0xBF83FE8E#32
  | 73 => 0x3F66D1C6#32
  | 74 => 0xBE164B73#32
  | 75 => 0x3F58F760#32
  | 76 => 0xBE206A6F#32
  | 77 => 0x3E9492D4#32
  | 78 => 0x3EE76CAC#32
  | 79 => 0xBE086413#32
  | 80 => 0x3F880230#32
  | 81 => 0x3E3D6F7A#32
  | 82 => 0xBE64CDB4#32
  | 83 => 0x3F5EA8DE#32
  | 84 => 0x3FD79CA2#32
  | 85 => 0x3E03A31A#32
  | 86 => 0xBFAB9DB1#32
  | 87 => 0x3C560690#32
  | 88 => 0xBE64457C#32
  | 89 => 0x3DEF9F85#32
  | 90 => 0x407A9D3A#32
  | 91 => 0x3F600ABF#32
  | 92 => 0x40831495#32
  | 93 => 0xBECF3C2A#32
  | 94 => 0x3FBCBEAA#32
  | 95 => 0x3FA1C0B2#32
  | 96 => 0x3D442952#32
  | 97 => 0x3F8EACFA#32
  | 98 => 0x3F8C7525#32
  | 99 => 0x404E0878#32
  | 100 => 0xBF0BA2F2#32
  | 101 => 0xBDAC0D1C#32
  | 102 => 0xBE8E0BE3#32
  | 103 => 0x3EF4EE20#32
  | 104 => 0x3DACAD6E#32
  | 105 => 0x402D52C8#32
  | 106 => 0x3FBF8C97#32
  | 107 => 0x4023D0CE#32
  | 108 => 0x3F81979C#32
  | 109 => 0xBF5285CF#32
  | 110 => 0xBE1D34C0#32
  | 111 => 0x402BF39D#32
  | 112 => 0x4010AB75#32
  | 113 => 0x401A5022#32
  | 114 => 0x3E5F72FE#32
  | 115 => 0x3F998FA2#32
  | 116 => 0x40615664#32
  | 117 => 0x3F905040#32
  | 118 => 0xBFB9BF2A#32
  | 119 => 0x4047E516#32
  | 120 => 0xBF5B5DB2#32
  | 121 => 0x3F552DC3#32
  | 122 => 0xBF9AE41E#32
  | 123 => 0x4024699C#32
  | 124 => 0x4013C862#32
  | 125 => 0x3F3FFA60#32
  | 126 => 0x3EA1055D#32
  | 127 => 0x3F669B4A#32
  | _ => 0#32

noncomputable abbrev lit0t0_722 (i : Nat) : BitVec 32 := match i % 128 with
  | 0 => 0x3F78FA7B#32
  | 1 => 0x3E285DB2#32
  | 2 => 0x40333FFD#32
  | 3 => 0x3ED1EB35#32
  | 4 => 0xBEF5A753#32
  | 5 => 0xBD4CBCF9#32
  | 6 => 0x3F89A826#32
  | 7 => 0x3E6E1E4E#32
  | 8 => 0x3F9ED319#32
  | 9 => 0x3EF6389C#32
  | 10 => 0x4058A213#32
  | 11 => 0xBF172A5E#32
  | 12 => 0xBFAB2EA9#32
  | 13 => 0x3F15B905#32
  | 14 => 0x3EC3D242#32
  | 15 => 0x3FE997E1#32
  | 16 => 0x3EC57C29#32
  | 17 => 0xBE35FFDC#32
  | 18 => 0x3F5EB3D0#32
  | 19 => 0x3FBD6280#32
  | 20 => 0x3F0BF77A#32
  | 21 => 0x3E2E844A#32
  | 22 => 0x3F557F46#32
  | 23 => 0x3F4803F0#32
  | 24 => 0x3EE1256E#32
  | 25 => 0xBEFB097D#32
  | 26 => 0xBF8B2E16#32
  | 27 => 0xBEBFA096#32
  | 28 => 0x3EEEE940#32
  | 29 => 0x3FE8A3F8#32
  | 30 => 0x3E50772C#32
  | 31 => 0x3D3601CA#32
  | 32 => 0xBE4EFEBF#32
  | 33 => 0xBF0EBD7A#32
  | 34 => 0x3EA407DE#32
  | 35 => 0xBF3AAE60#32
  | 36 => 0x40093020#32
  | 37 => 0x3EA93E9C#32
  | 38 => 0x4048D486#32
  | 39 => 0xBF076BC2#32
  | 40 => 0x3F887BD8#32
  | 41 => 0x400488B7#32
  | 42 => 0x3E566A69#32
  | 43 => 0xBF8EACD6#32
  | 44 => 0x400EB8C5#32
  | 45 => 0xBF78B5D6#32
  | 46 => 0xBE09A200#32
  | 47 => 0x3F8480D0#32
  | 48 => 0x3DDB3CE0#32
  | 49 => 0xBD275F86#32
  | 50 => 0xBE9891C0#32
  | 51 => 0x3FDEFA78#32
  | 52 => 0x3F9C4496#32
  | 53 => 0xBE4D5E36#32
  | 54 => 0xBF792944#32
  | 55 => 0xBF0B7573#32
  | 56 => 0x4000A72B#32
  | 57 => 0xBEB1EDF4#32
  | 58 => 0x3F1EE01C#32
  | 59 => 0x3F35BF8C#32
  | 60 => 0xBF7986E6#32
  | 61 => 0x4036ED8D#32
  | 62 => 0x3F1394FF#32
  | 63 => 0xBCD4CF74#32
  | 64 => 0xBFAC5ECF#32
  | 65 => 0x3FCC3F37#32
  | 66 => 0xBF12B44D#32
  | 67 => 0xBE99ADBC#32
  | 68 => 0xBD0CFD21#32
  | 69 => 0xBF0C7788#32
  | 70 => 0xBE01B35E#32
  | 71 => 0x3D676A33#32
  | 72 => 0xBE268BF7#32
  | 73 => 0x3FBC464B#32
  | 74 => 0x40460DD9#32
  | 75 => 0xBE59F97E#32
  | 76 => 0x3FF15416#32
  | 77 => 0x3EE8CD24#32
  | 78 => 0x3EE62F50#32
  | 79 => 0xBF936D79#32
  | 80 => 0x3EF5F672#32
  | 81 => 0xBFDE243C#32
  | 82 => 0x3EE7685A#32
  | 83 => 0x3E96FDD5#32
  | 84 => 0x4047C703#32
  | 85 => 0x3FB350BC#32
  | 86 => 0x3FD4DC20#32
  | 87 => 0x3FEB0AEA#32
  | 88 => 0x3C31A529#32
  | 89 => 0x3E226947#32
  | 90 => 0xBF667438#32
  | 91 => 0x40CC850B#32
  | 92 => 0xBEECD142#32
  | 93 => 0x4018FB49#32
  | 94 => 0xBF15986F#32
  | 95 => 0xBE65C1B9#32
  | 96 => 0x4003A9D4#32
  | 97 => 0xBDD1BC18#32
  | 98 => 0x3DFAB7BF#32
  | 99 => 0x3F2D2B7F#32
  | 100 => 0xBE19879B#32
  | 101 => 0xBF905BC0#32
  | 102 => 0x3F2A506D#32
  | 103 => 0xBF6DEA17#32
  | 104 => 0xBEBF3CCD#32
  | 105 => 0x3D7FFAAC#32
  | 106 => 0xBF998D62#32
  | 107 => 0x3F584C16#32
  | 108 => 0xBE95BD9C#32
  | 109 => 0xBE155DFE#32
  | 110 => 0x3F443C20#32
  | 111 => 0x3FFFCF60#32
  | 112 => 0x3FAB8CDD#32
  | 113 => 0xBF3705A1#32
  | 114 => 0x3F4A451C#32
  | 115 => 0xBE2E03AA#32
  | 116 => 0x3F73845A#32
  | 117 => 0x3F9F421A#32
  | 118 => 0x3F752DA0#32
  | 119 => 0xBF34C6AE#32
  | 120 => 0xBF1512DD#32
  | 121 => 0xBE7AE2D0#32
  | 122 => 0xBE3C277A#32
  | 123 => 0x3F870554#32
  | 124 => 0xBF183B49#32
  | 125 => 0x3F8FE216#32
  | 126 => 0xBF45F949#32
  | 127 => 0x4023E414#32
  | _ => 0#32

noncomputable abbrev lit0t0_723 (i : Nat) : BitVec 32 := match i % 128 with
  | 0 => 0xBD70BB9C#32
  | 1 => 0x4067A952#32
  | 2 => 0x3F87909F#32
  | 3 => 0xBE362B7E#32
  | 4 => 0xBEBECB06#32
  | 5 => 0xBD591226#32
  | 6 => 0xBF3F48B8#32
  | 7 => 0x3F610AC6#32
  | 8 => 0xBFA81BCF#32
  | 9 => 0xBEA60137#32
  | 10 => 0x3F5527DA#32
  | 11 => 0xBEEFAC10#32
  | 12 => 0x3E4E3251#32
  | 13 => 0x400BA800#32
  | 14 => 0x3F8A865A#32
  | 15 => 0x3E2868CD#32
  | 16 => 0x40053C13#32
  | 17 => 0x3F4C5746#32
  | 18 => 0x3FC33AF3#32
  | 19 => 0x4046C28D#32
  | 20 => 0xBFB628DD#32
  | 21 => 0x3D95E27C#32
  | 22 => 0xBEEDAA1E#32
  | 23 => 0x40305AFA#32
  | 24 => 0x3EF9F55F#32
  | 25 => 0xBEDB211E#32
  | 26 => 0xBF5EB194#32
  | 27 => 0x3FA3C954#32
  | 28 => 0x3F54F868#32
  | 29 => 0x3F934C52#32
  | 30 => 0x405E1AB5#32
  | 31 => 0x3F9C5A8A#32
  | 32 => 0xBDEB2179#32
  | 33 => 0x3EB8B5FB#32
  | 34 => 0xBF22D3F7#32
  | 35 => 0x3DDDCBE6#32
  | 36 => 0xBF0A5D05#32
  | 37 => 0x3F3035D8#32
  | 38 => 0xBF106E8C#32
  | 39 => 0x3F1CB0DA#32
  | 40 => 0x3F7D5DE6#32
  | 41 => 0x3FD24B13#32
  | 42 => 0x3F861108#32
  | 43 => 0x4026DE7B#32
  | 44 => 0x3F8DF590#32
  | 45 => 0xBF0076FD#32
  | 46 => 0xBDCBD8AF#32
  | 47 => 0x3FB8CFA0#32
  | 48 => 0x3DD00AB5#32
  | 49 => 0x3D69A646#32
  | 50 => 0x4080965F#32
  | 51 => 0xBF377331#32
  | 52 => 0x403061D2#32
  | 53 => 0x4016EF9D#32
  | 54 => 0x3F93E23A#32
  | 55 => 0xC003F447#32
  | 56 => 0x400D0EF1#32
  | 57 => 0x3E9F7FF9#32
  | 58 => 0xBE953F71#32
  | 59 => 0x3FA12594#32
  | 60 => 0xBD783259#32
  | 61 => 0x3FF0228B#32
  | 62 => 0xBF35C259#32
  | 63 => 0x3FA16512#32
  | 64 => 0x3F6C8A91#32
  | 65 => 0xBE8CB008#32
  | 66 => 0x3EAB8F51#32
  | 67 => 0x3F33A660#32
  | 68 => 0x3EA5A52A#32
  | 69 => 0x401131CC#32
  | 70 => 0xBF19C1D4#32
  | 71 => 0x3F421528#32
  | 72 => 0x40033145#32
  | 73 => 0xBC8E797B#32
  | 74 => 0xBEF3605E#32
  | 75 => 0x3FFAB27A#32
  | 76 => 0x3E869F2F#32
  | 77 => 0xBEAB8E65#32
  | 78 => 0x3F5EAE84#32
  | 79 => 0xBE158F24#32
  | 80 => 0x3FE0C481#32
  | 81 => 0x3F0F80FF#32
  | 82 => 0x3FDA4A0E#32
  | 83 => 0x404350B6#32
  | 84 => 0x3FD276C4#32
  | 85 => 0xBFC25496#32
  | 86 => 0x3FBAF5CF#32
  | 87 => 0xBDF5040E#32
  | 88 => 0x3F803960#32
  | 89 => 0xBF4E2D00#32
  | 90 => 0x3FCDF0C3#32
  | 91 => 0x3C40535A#32
  | 92 => 0x3FAC4F00#32
  | 93 => 0xBE04FFBE#32
  | 94 => 0x3F0CBF2F#32
  | 95 => 0x3EA188B4#32
  | 96 => 0x3F8864A8#32
  | 97 => 0x3DAA2F50#32
  | 98 => 0xBF6F5B59#32
  | 99 => 0x3CBB496A#32
  | 100 => 0x3F335155#32
  | 101 => 0xBF2F75A8#32
  | 102 => 0x4026C3C8#32
  | 103 => 0x3F7D7C04#32
  | 104 => 0x3FB5EF52#32
  | 105 => 0xBF557521#32
  | 106 => 0x3F436FEF#32
  | 107 => 0x3F96EB66#32
  | 108 => 0x3FD470C5#32
  | 109 => 0x3F5FAC26#32
  | 110 => 0xBF79C972#32
  | 111 => 0x3F8F74E4#32
  | 112 => 0xBF5575E9#32
  | 113 => 0xBF675582#32
  | 114 => 0xBFB597D3#32
  | 115 => 0x40B10764#32
  | 116 => 0xBF5FCCE2#32
  | 117 => 0xBFA190B2#32
  | 118 => 0x3EC01492#32
  | 119 => 0x3EC5CDDA#32
  | 120 => 0x3F87B458#32
  | 121 => 0x3FBFD49A#32
  | 122 => 0x3EDD1972#32
  | 123 => 0x3F54B692#32
  | 124 => 0xBEE17EFE#32
  | 125 => 0x3F9C465D#32
  | 126 => 0x3EB6118A#32
  | 127 => 0x3FAB5975#32
  | _ => 0#32

noncomputable abbrev lit0t0_724 (i : Nat) : BitVec 32 := match i % 128 with
  | 0 => 0x3F5C512F#32
  | 1 => 0xBE89209A#32
  | 2 => 0x4057B035#32
  | 3 => 0x3F9ABCD2#32
  | 4 => 0x3F4451E2#32
  | 5 => 0x408C2947#32
  | 6 => 0x3F371ABA#32
  | 7 => 0x3E985C8F#32
  | 8 => 0xBF1C86C1#32
  | 9 => 0xBFA184E5#32
  | 10 => 0xBE10CE7E#32
  | 11 => 0xBEBA5DE3#32
  | 12 => 0xBDA22367#32
  | 13 => 0x3FBB3F7D#32
  | 14 => 0xBE20E83F#32
  | 15 => 0x3E8AE362#32
  | 16 => 0xBF5BA0DD#32
  | 17 => 0xBFB55EEB#32
  | 18 => 0x3F8C3EF4#32
  | 19 => 0x3E8E92CF#32
  | 20 => 0xBEDEEE8D#32
  | 21 => 0x4053F39B#32
  | 22 => 0x3F8CFE3A#32
  | 23 => 0x3F989A28#32
  | 24 => 0x3F737118#32
  | 25 => 0x3E980A54#32
  | 26 => 0xBEC6D92F#32
  | 27 => 0xBD6A4521#32
  | 28 => 0x3D0775C6#32
  | 29 => 0x3F45CCAC#32
  | 30 => 0xBEC79B6E#32
  | 31 => 0x3FB1EA20#32
  | 32 => 0xBF69EC80#32
  | 33 => 0xBD9A1A55#32
  | 34 => 0xBEFAF22C#32
  | 35 => 0x3F1040B3#32
  | 36 => 0xBECC6A5E#32
  | 37 => 0xBEAD5FEA#32
  | 38 => 0xBEDFF98A#32
  | 39 => 0x3FE9C19B#32
  | 40 => 0x3F34ABE6#32
  | 41 => 0xBF8EF0FB#32
  | 42 => 0x3EA44D7D#32
  | 43 => 0x3EBE671D#32
  | 44 => 0x3D89D1B2#32
  | 45 => 0x3E77E9F5#32
  | 46 => 0xBFA1777A#32
  | 47 => 0x404FED8D#32
  | 48 => 0x3F0C8B06#32
  | 49 => 0x3EF69FAA#32
  | 50 => 0xBDD488E1#32
  | 51 => 0x3FF96061#32
  | 52 => 0x3FA5CC9D#32
  | 53 => 0xBF7A4476#32
  | 54 => 0x3F55DED9#32
  | 55 => 0x3FDC9566#32
  | 56 => 0xBE0D2C36#32
  | 57 => 0x3FC8B085#32
  | 58 => 0xBC1FE912#32
  | 59 => 0x3E1D3D5E#32
  | 60 => 0xBE0B099C#32
  | 61 => 0xBF17404B#32
  | 62 => 0x3E84356E#32
  | 63 => 0xBE16885F#32
  | 64 => 0x3FCF7BEC#32
  | 65 => 0x3E82AAEC#32
  | 66 => 0xBF593E62#32
  | 67 => 0x3ED038B5#32
  | 68 => 0x3F05FD63#32
  | 69 => 0xBEF55C68#32
  | 70 => 0xBF4FCC2C#32
  | 71 => 0xBE8CA83E#32
  | 72 => 0xBF24718D#32
  | 73 => 0x3FE190AF#32
  | 74 => 0xBEC62585#32
  | 75 => 0x3F248CF4#32
  | 76 => 0x3FD48FC8#32
  | 77 => 0x3E8910C4#32
  | 78 => 0x3C275D99#32
  | 79 => 0x3F42A482#32
  | 80 => 0x3FFA526C#32
  | 81 => 0x3DFE29C9#32
  | 82 => 0x3F172C41#32
  | 83 => 0x3FF1C5AA#32
  | 84 => 0xBF04F67B#32
  | 85 => 0x3F114A09#32
  | 86 => 0xBF78D18A#32
  | 87 => 0x3DD02244#32
  | 88 => 0x40088A19#32
  | 89 => 0x3F9D89D5#32
  | 90 => 0x3F85C43E#32
  | 91 => 0x3F69E9F9#32
  | 92 => 0x4010D498#32
  | 93 => 0x3F858B5A#32
  | 94 => 0x3F29236E#32
  | 95 => 0xBF459A43#32
  | 96 => 0x3F3D5A53#32
  | 97 => 0xBACB7F8A#32
  | 98 => 0xBE68DC3D#32
  | 99 => 0x3E91FF6C#32
  | 100 => 0x3EF4A95C#32
  | 101 => 0x3EC21824#32
  | 102 => 0xBF126C76#32
  | 103 => 0x3DE3EA3B#32
  | 104 => 0xBDA90F5C#32
  | 105 => 0xBF31F688#32
  | 106 => 0x3F18C152#32
  | 107 => 0x3FF60D65#32
  | 108 => 0x40893C6C#32
  | 109 => 0xBFC893F8#32
  | 110 => 0xBF9D8623#32
  | 111 => 0x3FAB4D10#32
  | 112 => 0xBE5D5B61#32
  | 113 => 0xBE36462C#32
  | 114 => 0x3D6ED6FD#32
  | 115 => 0xBF8234EA#32
  | 116 => 0x3FD1326D#32
  | 117 => 0xBF2A24BB#32
  | 118 => 0x3EAA7A99#32
  | 119 => 0x3F11D843#32
  | 120 => 0x3FBE80DC#32
  | 121 => 0x400D8917#32
  | 122 => 0x40754A12#32
  | 123 => 0x3EB9E6D4#32
  | 124 => 0x3F185439#32
  | 125 => 0x3D1BA9D9#32
  | 126 => 0x3EFC851A#32
  | 127 => 0x3D6DAB2C#32
  | _ => 0#32

noncomputable abbrev lit0t0_725 (i : Nat) : BitVec 32 := match i % 128 with
  | 0 => 0x3E3A3B58#32
  | 1 => 0x3FBA44B1#32
  | 2 => 0xBC7C5405#32
  | 3 => 0x3E9B7B89#32
  | 4 => 0x3EDDE6AD#32
  | 5 => 0x3EB3A04F#32
  | 6 => 0x3E2B7A34#32
  | 7 => 0x3F224989#32
  | 8 => 0xBF73B2FC#32
  | 9 => 0x3E2D776F#32
  | 10 => 0x4012FEE7#32
  | 11 => 0x3FB1EC28#32
  | 12 => 0x3F75DC20#32
  | 13 => 0xBEC0DB16#32
  | 14 => 0x404870D4#32
  | 15 => 0x3F948C1D#32
  | 16 => 0xBECAC174#32
  | 17 => 0x3F258EAA#32
  | 18 => 0x4022B964#32
  | 19 => 0xBF9C2766#32
  | 20 => 0x3F4D6198#32
  | 21 => 0x3C88822E#32
  | 22 => 0x3FBC9509#32
  | 23 => 0x3F3F39D4#32
  | 24 => 0x406DACBE#32
  | 25 => 0x3FBDCFDD#32
  | 26 => 0x3FCD69B5#32
  | 27 => 0xBF2006BD#32
  | 28 => 0x3F4B07E4#32
  | 29 => 0xBF84E663#32
  | 30 => 0xBFADBFE2#32
  | 31 => 0xBE70C8F3#32
  | 32 => 0x3F5B1832#32
  | 33 => 0x3F7CDB10#32
  | 34 => 0xBF1066BC#32
  | 35 => 0x40174F0C#32
  | 36 => 0xBF57E32C#32
  | 37 => 0xBF9C697F#32
  | 38 => 0xBF89385C#32
  | 39 => 0x3E050B40#32
  | 40 => 0x3F3903D3#32
  | 41 => 0xBFB467C3#32
  | 42 => 0x40157CD6#32
  | 43 => 0x3EC85F98#32
  | 44 => 0x3F47BAF1#32
  | 45 => 0x3FA88F31#32
  | 46 => 0xBF06E519#32
  | 47 => 0x3F0CB715#32
  | 48 => 0x40B0087D#32
  | 49 => 0x3C9FEF14#32
  | 50 => 0x3E5CDB45#32
  | 51 => 0x3FD462E9#32
  | 52 => 0x3F4A095D#32
  | 53 => 0x3F6878C0#32
  | 54 => 0x3F349052#32
  | 55 => 0x3F6DFA5A#32
  | 56 => 0x3FBA31C2#32
  | 57 => 0xBEA80AE2#32
  | 58 => 0x400E91DB#32
  | 59 => 0x3EB635D0#32
  | 60 => 0xBF50A231#32
  | 61 => 0xBEDF15DC#32
  | 62 => 0x3EC7131E#32
  | 63 => 0xBDD93048#32
  | 64 => 0x3F5CCFA3#32
  | 65 => 0x3E4E613D#32
  | 66 => 0xBF11BDDB#32
  | 67 => 0x40208040#32
  | 68 => 0xBEB2BB28#32
  | 69 => 0x3E09E8EE#32
  | 70 => 0x40734DA9#32
  | 71 => 0x3F688B88#32
  | 72 => 0x401A9857#32
  | 73 => 0xBE094263#32
  | 74 => 0x3FFB078C#32
  | 75 => 0x3FF2C1F5#32
  | 76 => 0xBE48C2E9#32
  | 77 => 0x3EFBC98F#32
  | 78 => 0x40AA2770#32
  | 79 => 0xBE9131D0#32
  | 80 => 0x3ECFB9AD#32
  | 81 => 0xBF307A95#32
  | 82 => 0x3E20FE49#32
  | 83 => 0x3E9E2BD8#32
  | 84 => 0x3DF2D0B1#32
  | 85 => 0x3F2C9D6C#32
  | 86 => 0x3E684DCF#32
  | 87 => 0x40904030#32
  | 88 => 0x3EAEA3C8#32
  | 89 => 0x40A9B8F6#32
  | 90 => 0x3E8520C9#32
  | 91 => 0x3D32E641#32
  | 92 => 0xBF81A1D0#32
  | 93 => 0x400FBAF2#32
  | 94 => 0xBF371BEA#32
  | 95 => 0xBF8F4312#32
  | 96 => 0xBEF644F0#32
  | 97 => 0x4017B03A#32
  | 98 => 0xBF2C6A60#32
  | 99 => 0x3F0AFB18#32
  | 100 => 0xBE96D8A7#32
  | 101 => 0x3FD31B1F#32
  | 102 => 0xBF952EC1#32
  | 103 => 0xBE7B0AFF#32
  | 104 => 0xBE9E6B58#32
  | 105 => 0xBF9562EB#32
  | 106 => 0x3E6A8A3A#32
  | 107 => 0x3D87248E#32
  | 108 => 0xBD4B28DA#32
  | 109 => 0x4058D15E#32
  | 110 => 0xBCB776A2#32
  | 111 => 0xBF0CA071#32
  | 112 => 0xBD3DA585#32
  | 113 => 0x3F92B5B7#32
  | 114 => 0x3FDB646E#32
  | 115 => 0x3F184509#32
  | 116 => 0xBEF4F9ED#32
  | 117 => 0x3BB6E871#32
  | 118 => 0x408AFB2B#32
  | 119 => 0xBF8E2E8C#32
  | 120 => 0x401F8921#32
  | 121 => 0xBEDD4745#32
  | 122 => 0x3E14791C#32
  | 123 => 0xBEC82D21#32
  | 124 => 0x40196182#32
  | 125 => 0x3F528B03#32
  | 126 => 0x3F874034#32
  | 127 => 0x40400D33#32
  | _ => 0#32

noncomputable abbrev lit0t0_726 (i : Nat) : BitVec 32 := match i % 128 with
  | 0 => 0x3F680F85#32
  | 1 => 0x4005E6FF#32
  | 2 => 0xBDDCA22B#32
  | 3 => 0x3EB5F7A8#32
  | 4 => 0x4006F29C#32
  | 5 => 0xBF3D344E#32
  | 6 => 0x40156CC3#32
  | 7 => 0x3E8BAB63#32
  | 8 => 0x3FB762D2#32
  | 9 => 0x3F54236D#32
  | 10 => 0x3E79E03F#32
  | 11 => 0x4037DD32#32
  | 12 => 0xBF036149#32
  | 13 => 0x3F418D9C#32
  | 14 => 0x3F611C72#32
  | 15 => 0xBF82893C#32
  | 16 => 0x3FC07697#32
  | 17 => 0xBF32162D#32
  | 18 => 0xC000CA6E#32
  | 19 => 0x4022B526#32
  | 20 => 0x3F9E1662#32
  | 21 => 0x4042485E#32
  | 22 => 0x3F1D3379#32
  | 23 => 0x3F4AF921#32
  | 24 => 0xBE9DAE3C#32
  | 25 => 0xBE407912#32
  | 26 => 0xBFE289A6#32
  | 27 => 0x3ECAEDD9#32
  | 28 => 0x3FFD5265#32
  | 29 => 0x3DDB135A#32
  | 30 => 0x40215172#32
  | 31 => 0x401FC77C#32
  | 32 => 0x3FF51B88#32
  | 33 => 0x40C63FD6#32
  | 34 => 0x4057F8AC#32
  | 35 => 0xBD5A0561#32
  | 36 => 0x3F8B995C#32
  | 37 => 0xBFC57217#32
  | 38 => 0x3E889860#32
  | 39 => 0x3D86381A#32
  | 40 => 0x3FFF4985#32
  | 41 => 0x3F2F73A6#32
  | 42 => 0xBFADB54F#32
  | 43 => 0x3F0B0705#32
  | 44 => 0x3D016EBD#32
  | 45 => 0x4012CCCF#32
  | 46 => 0xBF13E2C6#32
  | 47 => 0x405AA345#32
  | 48 => 0xBE58A1A8#32
  | 49 => 0x3E045EB2#32
  | 50 => 0xBF2BB1A2#32
  | 51 => 0x3E930B1F#32
  | 52 => 0xBD40EDBA#32
  | 53 => 0xBEC7820B#32
  | 54 => 0x3F6E2346#32
  | 55 => 0xBF2BA28F#32
  | 56 => 0x3D269F31#32
  | 57 => 0xBF07D9A8#32
  | 58 => 0xBDF88BDF#32
  | 59 => 0xBE8DE5A7#32
  | 60 => 0xBE185786#32
  | 61 => 0x3FA67A43#32
  | 62 => 0xBEF56797#32
  | 63 => 0xBF28755B#32
  | 64 => 0xBF118B5A#32
  | 65 => 0xBFE3DF82#32
  | 66 => 0xBF1FEEEF#32
  | 67 => 0x3FC7F2CD#32
  | 68 => 0xBE9DAA78#32
  | 69 => 0xBDCB8EBB#32
  | 70 => 0x3E69D0C4#32
  | 71 => 0x3F167122#32
  | 72 => 0x3FA1B18E#32
  | 73 => 0xBF510F4F#32
  | 74 => 0x3EEE5C7E#32
  | 75 => 0xBEF80CA0#32
  | 76 => 0xBF790258#32
  | 77 => 0x3F078A70#32
  | 78 => 0xBEA2BFC1#32
  | 79 => 0x4000719F#32
  | 80 => 0xBEC99C45#32
  | 81 => 0x3FB27C3A#32
  | 82 => 0x3F8F9906#32
  | 83 => 0x3FCD2713#32
  | 84 => 0x3F0213A2#32
  | 85 => 0x3FA04508#32
  | 86 => 0xBD923A9F#32
  | 87 => 0x3FBC9B15#32
  | 88 => 0x3FC3BCBA#32
  | 89 => 0xBF5A4CD9#32
  | 90 => 0x3F7EC5E5#32
  | 91 => 0x3F2BB987#32
  | 92 => 0x4049A56D#32
  | 93 => 0xBF3C04C4#32
  | 94 => 0xBF35BAB6#32
  | 95 => 0x3ED899C9#32
  | 96 => 0xBF528F34#32
  | 97 => 0xBF15C5BF#32
  | 98 => 0x403BA1EC#32
  | 99 => 0x400126C1#32
  | 100 => 0xBF89C9A1#32
  | 101 => 0x3F64F334#32
  | 102 => 0xBF9319B0#32
  | 103 => 0x3E788982#32
  | 104 => 0xBFBBF34A#32
  | 105 => 0x3F3F11F3#32
  | 106 => 0x3E7FF55E#32
  | 107 => 0x4023C229#32
  | 108 => 0x3F224F96#32
  | 109 => 0x3FE4256C#32
  | 110 => 0x3FBF3B87#32
  | 111 => 0xBF75D2F0#32
  | 112 => 0xBF9F7A90#32
  | 113 => 0x3F0377F6#32
  | 114 => 0xBF87A042#32
  | 115 => 0x3F26CF61#32
  | 116 => 0xBC9B2E58#32
  | 117 => 0x3E901F63#32
  | 118 => 0x401B20C3#32
  | 119 => 0x3F5DF27D#32
  | 120 => 0x3FE21CAA#32
  | 121 => 0xBF836756#32
  | 122 => 0x3F837085#32
  | 123 => 0x3F832D52#32
  | 124 => 0xBF06AA88#32
  | 125 => 0x3F6689E0#32
  | 126 => 0xBF494B4A#32
  | 127 => 0x3DCBF766#32
  | _ => 0#32

noncomputable abbrev lit0t0_727 (i : Nat) : BitVec 32 := match i % 128 with
  | 0 => 0x4008A824#32
  | 1 => 0xBF440216#32
  | 2 => 0xBFCAB5C0#32
  | 3 => 0x402D198F#32
  | 4 => 0xBFB9DD96#32
  | 5 => 0x3ED9D3D8#32
  | 6 => 0x3F2A9484#32
  | 7 => 0x3E071EAC#32
  | 8 => 0x3F1256B5#32
  | 9 => 0xBD8A0F8A#32
  | 10 => 0xBCCCF983#32
  | 11 => 0x3E418646#32
  | 12 => 0xBF7BC59E#32
  | 13 => 0xBF84EEF6#32
  | 14 => 0xBF5322BC#32
  | 15 => 0x3F872F95#32
  | 16 => 0xBF9F95B2#32
  | 17 => 0x403E66A3#32
  | 18 => 0x3F16FE20#32
  | 19 => 0x3DE3C888#32
  | 20 => 0x4005A24C#32
  | 21 => 0x3E96755E#32
  | 22 => 0x3FFEAC2E#32
  | 23 => 0x3F0B43BD#32
  | 24 => 0x40348CC2#32
  | 25 => 0xBFA56071#32
  | 26 => 0x4030A922#32
  | 27 => 0xBE743768#32
  | 28 => 0x401BF678#32
  | 29 => 0xBE60C6AA#32
  | 30 => 0x3FEE233E#32
  | 31 => 0x3DAF789C#32
  | 32 => 0x3F7D5B84#32
  | 33 => 0x3F92389F#32
  | 34 => 0x3F4F4391#32
  | 35 => 0x3F9F5369#32
  | 36 => 0x3F577D10#32
  | 37 => 0x3F77E2DA#32
  | 38 => 0x405821D0#32
  | 39 => 0xBD3DD377#32
  | 40 => 0x3E52B6E4#32
  | 41 => 0x3FE14BA9#32
  | 42 => 0xBEEC5A1B#32
  | 43 => 0xBE97C8BB#32
  | 44 => 0x3C3C3631#32
  | 45 => 0xBF077400#32
  | 46 => 0xBF100F99#32
  | 47 => 0xBE93B913#32
  | 48 => 0x3E8CA3B9#32
  | 49 => 0xBF039435#32
  | 50 => 0xBF95B2AC#32
  | 51 => 0x3FFB83FA#32
  | 52 => 0xBEE7F850#32
  | 53 => 0x3FC84860#32
  | 54 => 0x3E0C5706#32
  | 55 => 0x3F28BD3E#32
  | 56 => 0xBEAB55B0#32
  | 57 => 0x3E3496E4#32
  | 58 => 0x4040598A#32
  | 59 => 0x3F8F4E25#32
  | 60 => 0xBDF8BB25#32
  | 61 => 0x3E6CDF8B#32
  | 62 => 0xBE4F036B#32
  | 63 => 0xBED69B20#32
  | 64 => 0xBEC41561#32
  | 65 => 0xBF1448AF#32
  | 66 => 0x3FFD3411#32
  | 67 => 0x40424335#32
  | 68 => 0xBF2CF0F8#32
  | 69 => 0xBF9C507F#32
  | 70 => 0x40811834#32
  | 71 => 0x3F1D9C6D#32
  | 72 => 0xBF10058F#32
  | 73 => 0x3F1391B3#32
  | 74 => 0x3FE13A6E#32
  | 75 => 0xBF3C5438#32
  | 76 => 0xBE086231#32
  | 77 => 0xBDC64B6E#32
  | 78 => 0x3F6B2882#32
  | 79 => 0xBE97600F#32
  | 80 => 0xBF4BA905#32
  | 81 => 0x3E546566#32
  | 82 => 0x3D6322D1#32
  | 83 => 0x3CCAD00F#32
  | 84 => 0xBF339AB4#32
  | 85 => 0xBF5C24F3#32
  | 86 => 0x3EC1F65F#32
  | 87 => 0x3E441669#32
  | 88 => 0x400ED3BC#32
  | 89 => 0xBF63387D#32
  | 90 => 0x3FFBEB1A#32
  | 91 => 0x3F202ED4#32
  | 92 => 0x3F37F2A2#32
  | 93 => 0x3F88D5F2#32
  | 94 => 0x3F29D114#32
  | 95 => 0x3F25A9FF#32
  | 96 => 0xBE956C67#32
  | 97 => 0xBE128B77#32
  | 98 => 0x3E3911F9#32
  | 99 => 0x400D2A0F#32
  | 100 => 0x403B0BA8#32
  | 101 => 0x3FB7FF83#32
  | 102 => 0x3DE17B72#32
  | 103 => 0xBF8B47D0#32
  | 104 => 0xBDA10AB3#32
  | 105 => 0x3F944A50#32
  | 106 => 0xBE8DE0A4#32
  | 107 => 0xBF587B02#32
  | 108 => 0xBE6329DF#32
  | 109 => 0xBD8A9DE7#32
  | 110 => 0x40090606#32
  | 111 => 0xBD2D9518#32
  | 112 => 0x3E1A5B9A#32
  | 113 => 0xBF498301#32
  | 114 => 0x3FC9207E#32
  | 115 => 0x3EFD41D7#32
  | 116 => 0x3F3A9F00#32
  | 117 => 0x3E8B2C23#32
  | 118 => 0x3F01FC18#32
  | 119 => 0xBFB08577#32
  | 120 => 0xBF890356#32
  | 121 => 0x3F378B51#32
  | 122 => 0xBF1F2F44#32
  | 123 => 0x406B5DE6#32
  | 124 => 0x3EF894E2#32
  | 125 => 0x3FA4EA60#32
  | 126 => 0xBF8B3C6A#32
  | 127 => 0x401250F6#32
  | _ => 0#32

noncomputable abbrev lit0t0_728 (i : Nat) : BitVec 32 := match i % 128 with
  | 0 => 0x3FEFC650#32
  | 1 => 0x3F6581DA#32
  | 2 => 0x3F7E82B0#32
  | 3 => 0x3FAC3A1D#32
  | 4 => 0x4035F748#32
  | 5 => 0x3FC70C3B#32
  | 6 => 0x40B13B95#32
  | 7 => 0xBF7DD034#32
  | 8 => 0x3F417AF6#32
  | 9 => 0x3F858FB4#32
  | 10 => 0x3E2EE64E#32
  | 11 => 0x3F277BE4#32
  | 12 => 0x3F97556E#32
  | 13 => 0x3FB1B5F3#32
  | 14 => 0xBCF172D7#32
  | 15 => 0x3F9AE188#32
  | 16 => 0x3FE7A9B9#32
  | 17 => 0x3E47CB88#32
  | 18 => 0x3E6C1FA3#32
  | 19 => 0x3F217438#32
  | 20 => 0x3E51F910#32
  | 21 => 0x3F972E8F#32
  | 22 => 0x3F8438B7#32
  | 23 => 0xBEFF584C#32
  | 24 => 0xBF8CD673#32
  | 25 => 0x3E9174F3#32
  | 26 => 0xBFADA32C#32
  | 27 => 0x3E821257#32
  | 28 => 0x3F1EA8EA#32
  | 29 => 0x3F694FE4#32
  | 30 => 0x3FAC5DDC#32
  | 31 => 0xBE983801#32
  | 32 => 0x3F22D7FC#32
  | 33 => 0xBC5A2BFB#32
  | 34 => 0x3F65C609#32
  | 35 => 0xBF30AF0E#32
  | 36 => 0xBE75C3EB#32
  | 37 => 0x3FE4094D#32
  | 38 => 0xBEF6499C#32
  | 39 => 0x3F050762#32
  | 40 => 0x3E11C7E7#32
  | 41 => 0x40760106#32
  | 42 => 0x3F785276#32
  | 43 => 0xBDE1AF04#32
  | 44 => 0x3D821CB5#32
  | 45 => 0x3F42C092#32
  | 46 => 0x3FC1B802#32
  | 47 => 0x3F78E22E#32
  | 48 => 0xBEEC8D24#32
  | 49 => 0x3EDE76C6#32
  | 50 => 0x402FE1C6#32
  | 51 => 0x3F2A86C4#32
  | 52 => 0x3FF720D1#32
  | 53 => 0xBE696BF5#32
  | 54 => 0x40306D20#32
  | 55 => 0x3EB3B719#32
  | 56 => 0xBF15FBF2#32
  | 57 => 0x3DF750FD#32
  | 58 => 0x3E73FDB4#32
  | 59 => 0xBED7BD2A#32
  | 60 => 0x3FA40433#32
  | 61 => 0xBF35C249#32
  | 62 => 0x3FEB7BF0#32
  | 63 => 0x3FEB710A#32
  | 64 => 0xBEF2DF3B#32
  | 65 => 0xBF04397C#32
  | 66 => 0x4019004A#32
  | 67 => 0x3F59E833#32
  | 68 => 0x3EA15517#32
  | 69 => 0xBF2C2A1C#32
  | 70 => 0xBFAD94D1#32
  | 71 => 0x401B6CFB#32
  | 72 => 0x3FCA1652#32
  | 73 => 0x3EE2EB5D#32
  | 74 => 0xBF2A832E#32
  | 75 => 0x401CA956#32
  | 76 => 0x40688D61#32
  | 77 => 0xBF867D65#32
  | 78 => 0x3FB26F92#32
  | 79 => 0x3FC14AA0#32
  | 80 => 0x3EF501AA#32
  | 81 => 0x3F893BE4#32
  | 82 => 0xBE970B53#32
  | 83 => 0x3FB4A251#32
  | 84 => 0x3E8FC920#32
  | 85 => 0xBD75FFF1#32
  | 86 => 0x3F90A4D8#32
  | 87 => 0x40B13BD5#32
  | 88 => 0x3FE4BEFE#32
  | 89 => 0xBE690B3B#32
  | 90 => 0x40A903CF#32
  | 91 => 0xBF2D5940#32
  | 92 => 0xBF2129BA#32
  | 93 => 0x3FB3FFF5#32
  | 94 => 0x3FA6ACBD#32
  | 95 => 0x3FA319EF#32
  | 96 => 0xBE82B535#32
  | 97 => 0x3FE3F5B4#32
  | 98 => 0x3F8330C0#32
  | 99 => 0x3FA14576#32
  | 100 => 0x3FAD6958#32
  | 101 => 0x3E6F5281#32
  | 102 => 0xBF8FBCF4#32
  | 103 => 0xBF4C72C0#32
  | 104 => 0x3FDEC63E#32
  | 105 => 0x40286A63#32
  | 106 => 0x3FDF5B84#32
  | 107 => 0x3EA17E43#32
  | 108 => 0x3F0CC0EA#32
  | 109 => 0x3FE54790#32
  | 110 => 0xBF085AFF#32
  | 111 => 0xBFAFD41F#32
  | 112 => 0xBF2EC341#32
  | 113 => 0xBFA8F64D#32
  | 114 => 0xBF1AA973#32
  | 115 => 0xBF1560AD#32
  | 116 => 0x3F713752#32
  | 117 => 0xBF16DC7D#32
  | 118 => 0x3EA00CF0#32
  | 119 => 0x3EEDEE55#32
  | 120 => 0x3F643564#32
  | 121 => 0x3ED6BB3F#32
  | 122 => 0x3F6C0C27#32
  | 123 => 0x3EB595AC#32
  | 124 => 0x3F59C4F4#32
  | 125 => 0xBF3F4E1A#32
  | 126 => 0x3F2AD72B#32
  | 127 => 0xBF11A422#32
  | _ => 0#32

noncomputable abbrev lit0t0_729 (i : Nat) : BitVec 32 := match i % 128 with
  | 0 => 0x3F4A2F82#32
  | 1 => 0xBEB76AA9#32
  | 2 => 0xBF14A398#32
  | 3 => 0xBE96E5D7#32
  | 4 => 0x4071D086#32
  | 5 => 0x3FAECDA9#32
  | 6 => 0x3FBC2008#32
  | 7 => 0xBE981294#32
  | 8 => 0x3E63C8CC#32
  | 9 => 0x3E86DE25#32
  | 10 => 0x3F90FCEC#32
  | 11 => 0x3FA13B9B#32
  | 12 => 0x4060DD88#32
  | 13 => 0x3F4CA4F7#32
  | 14 => 0x3FB77D18#32
  | 15 => 0xBF429863#32
  | 16 => 0xBF5A273A#32
  | 17 => 0x4035B83A#32
  | 18 => 0xBE77B770#32
  | 19 => 0x40345766#32
  | 20 => 0xBDB1EDB6#32
  | 21 => 0xBF87C822#32
  | 22 => 0x402367CA#32
  | 23 => 0x3FB48EDC#32
  | 24 => 0x3F3F55EF#32
  | 25 => 0x3FC6A99A#32
  | 26 => 0xBEE95057#32
  | 27 => 0x3E4022C0#32
  | 28 => 0xBF2EF3B9#32
  | 29 => 0x3F926681#32
  | 30 => 0x3F5C3884#32
  | 31 => 0x3FE09495#32
  | 32 => 0x3F70B1A4#32
  | 33 => 0x3F0EB331#32
  | 34 => 0x3EA799C6#32
  | 35 => 0xBF6386ED#32
  | 36 => 0x3FE50E3A#32
  | 37 => 0xBF21B263#32
  | 38 => 0x3F39B652#32
  | 39 => 0x3FEEEF02#32
  | 40 => 0x3F8A8934#32
  | 41 => 0xBF0FE7D2#32
  | 42 => 0x3FF250A1#32
  | 43 => 0xBF27AD96#32
  | 44 => 0xBF3BCED3#32
  | 45 => 0x40098F3E#32
  | 46 => 0x3EEB9302#32
  | 47 => 0xBF3995C9#32
  | 48 => 0x3E0382A4#32
  | 49 => 0x3EC08EBB#32
  | 50 => 0x3FB9CD9D#32
  | 51 => 0xBF5B7C97#32
  | 52 => 0x3EB97D46#32
  | 53 => 0x402EC1FA#32
  | 54 => 0xBF29EFBF#32
  | 55 => 0xBF0EF84C#32
  | 56 => 0xBE0E1F32#32
  | 57 => 0xBE91BE0C#32
  | 58 => 0x3EAAA69E#32
  | 59 => 0x403A4D41#32
  | 60 => 0x3EBEA494#32
  | 61 => 0xBE4EABE9#32
  | 62 => 0x3FAADAF4#32
  | 63 => 0xBF843BA0#32
  | 64 => 0x3DA47CA7#32
  | 65 => 0xBEA805C9#32
  | 66 => 0x3F889F4E#32
  | 67 => 0x3FA70B85#32
  | 68 => 0xBE40ECB8#32
  | 69 => 0x3ED0E7E2#32
  | 70 => 0x3F580772#32
  | 71 => 0x3FBC88C2#32
  | 72 => 0xBF30E9E0#32
  | 73 => 0xBD2A7B07#32
  | 74 => 0xBF9F4F08#32
  | 75 => 0xBF1203A1#32
  | 76 => 0x3FB74EB6#32
  | 77 => 0xBEB942E4#32
  | 78 => 0x3D84A9B8#32
  | 79 => 0x40049F77#32
  | 80 => 0x3F8549E6#32
  | 81 => 0x3E11C720#32
  | 82 => 0x3DFD371A#32
  | 83 => 0xBF285883#32
  | 84 => 0x3FD9123A#32
  | 85 => 0x3F2D3A0F#32
  | 86 => 0xBD763B82#32
  | 87 => 0x3F83F6A5#32
  | 88 => 0x3F6CF2D3#32
  | 89 => 0x3D34BB45#32
  | 90 => 0x402B0FAC#32
  | 91 => 0x3EECD374#32
  | 92 => 0xBF58C418#32
  | 93 => 0x3FFF8C13#32
  | 94 => 0x3F4615DA#32
  | 95 => 0x3F2ED984#32
  | 96 => 0x3E9596BC#32
  | 97 => 0x3ED38900#32
  | 98 => 0x3FB5A863#32
  | 99 => 0x3EB432FA#32
  | 100 => 0x3FD18980#32
  | 101 => 0x3E515F0B#32
  | 102 => 0x404C8DD3#32
  | 103 => 0x3F7E9762#32
  | 104 => 0x3F75EDEF#32
  | 105 => 0x3EFE994D#32
  | 106 => 0x3EA526E1#32
  | 107 => 0xBFB9D987#32
  | 108 => 0xBED07B9E#32
  | 109 => 0x3F93B786#32
  | 110 => 0xBE39B273#32
  | 111 => 0x402A2D54#32
  | 112 => 0x3FCF74D2#32
  | 113 => 0x3E941ACD#32
  | 114 => 0x3FAE9910#32
  | 115 => 0xBE3BF645#32
  | 116 => 0x3F9C14C4#32
  | 117 => 0x3FEA4694#32
  | 118 => 0x3EA32EA9#32
  | 119 => 0x4019F108#32
  | 120 => 0xBEBD2487#32
  | 121 => 0x3F8882AE#32
  | 122 => 0x3F5949CD#32
  | 123 => 0xBF29C8A0#32
  | 124 => 0x3EDE7A0E#32
  | 125 => 0xBF15559C#32
  | 126 => 0xBE6C0E4A#32
  | 127 => 0x4047333A#32
  | _ => 0#32

noncomputable abbrev lit0t0_730 (i : Nat) : BitVec 32 := match i % 128 with
  | 0 => 0xBF4A0B9F#32
  | 1 => 0x3EB82999#32
  | 2 => 0x3FD1155B#32
  | 3 => 0x3F824834#32
  | 4 => 0x403ECC29#32
  | 5 => 0x3FC7CDE6#32
  | 6 => 0x3E78C440#32
  | 7 => 0x400D57AD#32
  | 8 => 0x400C0F94#32
  | 9 => 0x3F18DA86#32
  | 10 => 0x3FBC8BCD#32
  | 11 => 0x3F8C4B72#32
  | 12 => 0x3F1B1056#32
  | 13 => 0x3F185996#32
  | 14 => 0x3ED6554E#32
  | 15 => 0xBF03A2F5#32
  | 16 => 0xBE3452E2#32
  | 17 => 0x3EB253E4#32
  | 18 => 0x3F88FC46#32
  | 19 => 0xBEC83917#32
  | 20 => 0xBE1B26CF#32
  | 21 => 0x40327225#32
  | 22 => 0x3F5E311B#32
  | 23 => 0x3FEF96D2#32
  | 24 => 0x3D79494F#32
  | 25 => 0x3DE98C91#32
  | 26 => 0xBFBDD531#32
  | 27 => 0x3F274263#32
  | 28 => 0x4072998D#32
  | 29 => 0xBF876B8E#32
  | 30 => 0x3F9021FA#32
  | 31 => 0xBFA94C42#32
  | 32 => 0xBED0ED69#32
  | 33 => 0xBF465171#32
  | 34 => 0xBF27F3FB#32
  | 35 => 0xBF8F487A#32
  | 36 => 0x3BF39F45#32
  | 37 => 0xBFDF5AC4#32
  | 38 => 0xBEAC1E00#32
  | 39 => 0x40A8C488#32
  | 40 => 0xBE846A50#32
  | 41 => 0x402A971B#32
  | 42 => 0x400EEBC6#32
  | 43 => 0x3FBA2B34#32
  | 44 => 0x3F201A09#32
  | 45 => 0x3F03B46C#32
  | 46 => 0xBF6FC205#32
  | 47 => 0xBE68F8D0#32
  | 48 => 0x3F249193#32
  | 49 => 0x3E8EF22D#32
  | 50 => 0x4044FFB0#32
  | 51 => 0x3F5E9761#32
  | 52 => 0x40847523#32
  | 53 => 0xBE15B966#32
  | 54 => 0x40010D61#32
  | 55 => 0x3FB9FABA#32
  | 56 => 0xBEB0A09C#32
  | 57 => 0x3E80E44B#32
  | 58 => 0xBDFCE343#32
  | 59 => 0x3DCF858D#32
  | 60 => 0x3FC22C6B#32
  | 61 => 0xBE547F4E#32
  | 62 => 0x3FB41301#32
  | 63 => 0x3F8154B4#32
  | 64 => 0x408ADF33#32
  | 65 => 0xBE546B4B#32
  | 66 => 0xBF208745#32
  | 67 => 0xBDC55B65#32
  | 68 => 0x3F7A14B4#32
  | 69 => 0xBE201EF8#32
  | 70 => 0x3F66B3D5#32
  | 71 => 0x3F3A42C9#32
  | 72 => 0xBEA77A3E#32
  | 73 => 0xBDAECA72#32
  | 74 => 0x3ED19A1D#32
  | 75 => 0xBE497610#32
  | 76 => 0x4001C092#32
  | 77 => 0xBF063E83#32
  | 78 => 0x40000D27#32
  | 79 => 0x40614F1C#32
  | 80 => 0x3D15DBA0#32
  | 81 => 0x3F5B4DB8#32
  | 82 => 0x4001627A#32
  | 83 => 0xBF072F60#32
  | 84 => 0x40156424#32
  | 85 => 0xBEC4A74B#32
  | 86 => 0xBF45E636#32
  | 87 => 0x3F4B0036#32
  | 88 => 0x3B9CDEF9#32
  | 89 => 0x3F21E536#32
  | 90 => 0x40379DBE#32
  | 91 => 0xBF3BADAF#32
  | 92 => 0x3F6166C2#32
  | 93 => 0x3E2AF87A#32
  | 94 => 0xBF7ED752#32
  | 95 => 0x3FEB2666#32
  | 96 => 0x3E8EE55F#32
  | 97 => 0xBF15649B#32
  | 98 => 0xBF01236A#32
  | 99 => 0x3F806EA2#32
  | 100 => 0x3F6A48F2#32
  | 101 => 0xBF97EC12#32
  | 102 => 0x4036F467#32
  | 103 => 0x3FD133CA#32
  | 104 => 0x3FB10C58#32
  | 105 => 0x3E21A442#32
  | 106 => 0xBF2D78F0#32
  | 107 => 0xBEB81F3F#32
  | 108 => 0xBF687286#32
  | 109 => 0xBDA96D80#32
  | 110 => 0xBF90ECF8#32
  | 111 => 0xBE4EB46A#32
  | 112 => 0x3CE6DB78#32
  | 113 => 0xBF9FD592#32
  | 114 => 0x3FC9EC7C#32
  | 115 => 0x3F5C93A2#32
  | 116 => 0xBF0E723A#32
  | 117 => 0xBDBC7B1A#32
  | 118 => 0xBEB11220#32
  | 119 => 0x3DCAF1E3#32
  | 120 => 0xBF0F8D1E#32
  | 121 => 0xBF5EEC13#32
  | 122 => 0x3E7DB7B8#32
  | 123 => 0xBE1731F4#32
  | 124 => 0x3F3CFDF8#32
  | 125 => 0xBECDF9BF#32
  | 126 => 0xBF22258C#32
  | 127 => 0xBE4ECCA6#32
  | _ => 0#32

noncomputable abbrev lit0t0_731 (i : Nat) : BitVec 32 := match i % 128 with
  | 0 => 0x3ED6F9C4#32
  | 1 => 0x403BA30B#32
  | 2 => 0x3E6D25BB#32
  | 3 => 0x3F168B5D#32
  | 4 => 0xBF988C63#32
  | 5 => 0xBE95AFD1#32
  | 6 => 0x3FBD19AC#32
  | 7 => 0xBF617A1D#32
  | 8 => 0x40594926#32
  | 9 => 0x401AE254#32
  | 10 => 0xBE200DFF#32
  | 11 => 0x3FCF9465#32
  | 12 => 0x3FA7E69A#32
  | 13 => 0x3F102DCF#32
  | 14 => 0xBF6FBB3A#32
  | 15 => 0xC002C983#32
  | 16 => 0x3F877742#32
  | 17 => 0x3F0EB4F5#32
  | 18 => 0xBECC8403#32
  | 19 => 0x3F7AB0E1#32
  | 20 => 0x3F6FC21B#32
  | 21 => 0xBF2EC499#32
  | 22 => 0x3F4BE3E7#32
  | 23 => 0x3FC3F5C9#32
  | 24 => 0x3E4416AC#32
  | 25 => 0xBFBCA01A#32
  | 26 => 0x3FAF1AE9#32
  | 27 => 0x404BB948#32
  | 28 => 0x40084E15#32
  | 29 => 0xBF028AD3#32
  | 30 => 0xBF9DC147#32
  | 31 => 0xBE9A0563#32
  | 32 => 0xBC706450#32
  | 33 => 0x3FF79099#32
  | 34 => 0xBF06C0D3#32
  | 35 => 0x3E9AD8CF#32
  | 36 => 0xBE108DAB#32
  | 37 => 0xBD64CD49#32
  | 38 => 0x3E4615DC#32
  | 39 => 0x3F2531D9#32
  | 40 => 0x3FBDBEE0#32
  | 41 => 0x3F5F903A#32
  | 42 => 0x3FABD262#32
  | 43 => 0x3F90DF87#32
  | 44 => 0x40142B4A#32
  | 45 => 0xBDCCBE58#32
  | 46 => 0x3F4A1594#32
  | 47 => 0xBF33A723#32
  | 48 => 0xBDB22809#32
  | 49 => 0x4045C76D#32
  | 50 => 0x3DA20D16#32
  | 51 => 0x3F45C81B#32
  | 52 => 0x3F1DE5BE#32
  | 53 => 0x3E77E8A5#32
  | 54 => 0x3F1A1366#32
  | 55 => 0xBE33223D#32
  | 56 => 0x408157CB#32
  | 57 => 0x3E5B1DD9#32
  | 58 => 0xBD636381#32
  | 59 => 0x3F29D9D1#32
  | 60 => 0x3FE0C640#32
  | 61 => 0xBF8AE779#32
  | 62 => 0x3F930A36#32
  | 63 => 0xBE85FF2B#32
  | 64 => 0xBCAF3ACA#32
  | 65 => 0x40009C0E#32
  | 66 => 0x3FD62FAC#32
  | 67 => 0x3FC03A87#32
  | 68 => 0x3F9A6880#32
  | 69 => 0x400DAF44#32
  | 70 => 0xBEC7DA66#32
  | 71 => 0xBF1E7314#32
  | 72 => 0x3F977AEC#32
  | 73 => 0xBF899E26#32
  | 74 => 0xBE91A68C#32
  | 75 => 0xBF86E1A8#32
  | 76 => 0xBE14D73D#32
  | 77 => 0xBEFEAC90#32
  | 78 => 0xBEA778CE#32
  | 79 => 0x3FA67E85#32
  | 80 => 0x3F28EC78#32
  | 81 => 0x3FEE21BF#32
  | 82 => 0x402FFF8C#32
  | 83 => 0x3EB2E359#32
  | 84 => 0xBD90EABE#32
  | 85 => 0x4056F763#32
  | 86 => 0x403B1FDC#32
  | 87 => 0xBF9CFE6A#32
  | 88 => 0x3F805A05#32
  | 89 => 0xBEDEBAAF#32
  | 90 => 0x3FE3A06E#32
  | 91 => 0xBEB56EC6#32
  | 92 => 0x3F52B5AE#32
  | 93 => 0xBF4246DF#32
  | 94 => 0x3FC6EDAC#32
  | 95 => 0xBF28E868#32
  | 96 => 0x3F41F18B#32
  | 97 => 0x3FB2032E#32
  | 98 => 0x3E57CE72#32
  | 99 => 0x3ED170A6#32
  | 100 => 0xBD80B4A5#32
  | 101 => 0x3EDC90CF#32
  | 102 => 0xBF9D4D9F#32
  | 103 => 0x3FB6CB02#32
  | 104 => 0x408B7556#32
  | 105 => 0xBF023D7F#32
  | 106 => 0x3EB21A18#32
  | 107 => 0x3E8BE3DB#32
  | 108 => 0x3D6B83C9#32
  | 109 => 0x3E38A834#32
  | 110 => 0x3DB5380C#32
  | 111 => 0x3F608E6E#32
  | 112 => 0xBE1F37AF#32
  | 113 => 0xBE91B955#32
  | 114 => 0x4005E82E#32
  | 115 => 0xBF0C99A2#32
  | 116 => 0xBF9D0A19#32
  | 117 => 0x403916EC#32
  | 118 => 0xBE20461E#32
  | 119 => 0xBE17399D#32
  | 120 => 0xBDFDCEC1#32
  | 121 => 0x3F8599EA#32
  | 122 => 0x400EE8E4#32
  | 123 => 0x3FCC1AF7#32
  | 124 => 0xBF1DF54D#32
  | 125 => 0x3E48B615#32
  | 126 => 0x3F4A42F1#32
  | 127 => 0x3FA50AB3#32
  | _ => 0#32

noncomputable abbrev lit0t0_732 (i : Nat) : BitVec 32 := match i % 128 with
  | 0 => 0x3F63045E#32
  | 1 => 0x3F35879A#32
  | 2 => 0x3F5D3814#32
  | 3 => 0x3F2B2882#32
  | 4 => 0x40303CDA#32
  | 5 => 0xBEBCC0A4#32
  | 6 => 0x3FC46B0F#32
  | 7 => 0xBF838C22#32
  | 8 => 0x3FBB7D22#32
  | 9 => 0x3FE0C140#32
  | 10 => 0xBF1D6DBD#32
  | 11 => 0x3F9B16AD#32
  | 12 => 0xBD74C613#32
  | 13 => 0x3EA51534#32
  | 14 => 0xC0080534#32
  | 15 => 0x3EF4D504#32
  | 16 => 0xBF70A8AA#32
  | 17 => 0x3E0F0B46#32
  | 18 => 0xBF490321#32
  | 19 => 0x3FF64E3E#32
  | 20 => 0xBF2E78FF#32
  | 21 => 0x3FE5D322#32
  | 22 => 0x3FD06662#32
  | 23 => 0x3F137EF2#32
  | 24 => 0xBF2C65D2#32
  | 25 => 0x3F97D4D0#32
  | 26 => 0x3F49E1BD#32
  | 27 => 0xBE726B95#32
  | 28 => 0xBE6CE574#32
  | 29 => 0xBFE08101#32
  | 30 => 0xBF6D98C7#32
  | 31 => 0xBFB7F73E#32
  | 32 => 0x3ED6E9E5#32
  | 33 => 0x3F43BC6B#32
  | 34 => 0x4028009C#32
  | 35 => 0x4004CBC5#32
  | 36 => 0x3F912DD7#32
  | 37 => 0x3EED94F0#32
  | 38 => 0xBE1EF9E9#32
  | 39 => 0x3E988BB3#32
  | 40 => 0x3D2FC456#32
  | 41 => 0xBE6021E4#32
  | 42 => 0x3EB43E6A#32
  | 43 => 0xBDCBFCAB#32
  | 44 => 0xBF70B8D2#32
  | 45 => 0x3FF76508#32
  | 46 => 0x3FF447BC#32
  | 47 => 0x407B9883#32
  | 48 => 0x40238F70#32
  | 49 => 0xBDC566DD#32
  | 50 => 0x4043446A#32
  | 51 => 0x3F25F50E#32
  | 52 => 0x4056937D#32
  | 53 => 0x3F2962B9#32
  | 54 => 0xBE340477#32
  | 55 => 0xBF090E1B#32
  | 56 => 0x3F89C8A8#32
  | 57 => 0x3FE46A07#32
  | 58 => 0x3EBA9CCF#32
  | 59 => 0xBF32EDF6#32
  | 60 => 0x3E2A1C67#32
  | 61 => 0x3EAFE115#32
  | 62 => 0x405D34E7#32
  | 63 => 0x3F2DAD9A#32
  | 64 => 0x3E89A398#32
  | 65 => 0x409A2C7C#32
  | 66 => 0xBFBBDE7F#32
  | 67 => 0x4000238D#32
  | 68 => 0x3FF21AF7#32
  | 69 => 0x3F13512A#32
  | 70 => 0x3F0274F3#32
  | 71 => 0x3FB59EE9#32
  | 72 => 0x3F43CA0C#32
  | 73 => 0xBC1CE513#32
  | 74 => 0xBE98D863#32
  | 75 => 0xBF664080#32
  | 76 => 0x400F10D8#32
  | 77 => 0x40258A5F#32
  | 78 => 0x3EF0C838#32
  | 79 => 0x3E85FAB4#32
  | 80 => 0x3F3A93ED#32
  | 81 => 0x3D91CFE7#32
  | 82 => 0xBE1FF36D#32
  | 83 => 0x3D85188F#32
  | 84 => 0x3FA9E1F7#32
  | 85 => 0x404398E6#32
  | 86 => 0x3E9E444A#32
  | 87 => 0x3FE9FB71#32
  | 88 => 0xBDF59B24#32
  | 89 => 0xBFEEE9C9#32
  | 90 => 0xBF1C63D3#32
  | 91 => 0x3FFEFC1C#32
  | 92 => 0x3ED06FF8#32
  | 93 => 0x3F1B4FBA#32
  | 94 => 0xBECF40E0#32
  | 95 => 0xBF640553#32
  | 96 => 0xBEFA1514#32
  | 97 => 0x3D345133#32
  | 98 => 0x3D29544A#32
  | 99 => 0x3D873A06#32
  | 100 => 0x404B997D#32
  | 101 => 0x3E9174C6#32
  | 102 => 0xBF256BFD#32
  | 103 => 0x3E8C1ECA#32
  | 104 => 0x3D746A1E#32
  | 105 => 0x3DAA7AAC#32
  | 106 => 0xBF6C188C#32
  | 107 => 0xBF44A7A1#32
  | 108 => 0x3F9FB080#32
  | 109 => 0xBF28CDEB#32
  | 110 => 0xBE4E8268#32
  | 111 => 0xBF231C48#32
  | 112 => 0x3F7A5C3E#32
  | 113 => 0x3F0C549C#32
  | 114 => 0x3F8114B9#32
  | 115 => 0x3F72289C#32
  | 116 => 0x3F9E90AB#32
  | 117 => 0xBF6DEE18#32
  | 118 => 0xBFAA94DB#32
  | 119 => 0x3F694203#32
  | 120 => 0x3F931237#32
  | 121 => 0x3DBF1124#32
  | 122 => 0x3F8F6A95#32
  | 123 => 0x3FA9FC79#32
  | 124 => 0x3FF22E64#32
  | 125 => 0xBF7E4E2D#32
  | 126 => 0xBF32E1B6#32
  | 127 => 0x3FD89A40#32
  | _ => 0#32

noncomputable abbrev lit0t0_733 (i : Nat) : BitVec 32 := match i % 128 with
  | 0 => 0x3EB8A886#32
  | 1 => 0x3E643105#32
  | 2 => 0x3E89A587#32
  | 3 => 0x3ECA5F32#32
  | 4 => 0xBE4C7BE3#32
  | 5 => 0x3F19BD71#32
  | 6 => 0xBE5225B9#32
  | 7 => 0xBF11771A#32
  | 8 => 0xBFA57FC1#32
  | 9 => 0x3E7AFEB0#32
  | 10 => 0x3F54A4E3#32
  | 11 => 0x4005AE1C#32
  | 12 => 0xBF88CD7F#32
  | 13 => 0x3EA99F06#32
  | 14 => 0xBEA7210F#32
  | 15 => 0xBE884C4C#32
  | 16 => 0x3F0FF2B4#32
  | 17 => 0xBE90E133#32
  | 18 => 0x3EBEB63E#32
  | 19 => 0xBFAA609C#32
  | 20 => 0x3FA2DDDF#32
  | 21 => 0x3E9B0631#32
  | 22 => 0x4068D9EA#32
  | 23 => 0x40412042#32
  | 24 => 0x3E822164#32
  | 25 => 0xBF2A4072#32
  | 26 => 0xBF06A47C#32
  | 27 => 0x407B8335#32
  | 28 => 0x3EA4D1FF#32
  | 29 => 0x3F29AFA0#32
  | 30 => 0xBF930D60#32
  | 31 => 0xBF0507DB#32
  | 32 => 0x3EB01C99#32
  | 33 => 0xBEEE0380#32
  | 34 => 0x3FF742DD#32
  | 35 => 0xBF900444#32
  | 36 => 0x3F399BCC#32
  | 37 => 0x3FD6C967#32
  | 38 => 0x3E69A785#32
  | 39 => 0x3FB6C501#32
  | 40 => 0x3F1B6050#32
  | 41 => 0xBEB41172#32
  | 42 => 0x3F720566#32
  | 43 => 0x3F810033#32
  | 44 => 0xBF8542F5#32
  | 45 => 0xBF03B43E#32
  | 46 => 0x3FC60512#32
  | 47 => 0x3EFDA3BC#32
  | 48 => 0x404B5771#32
  | 49 => 0xBFD76CEE#32
  | 50 => 0xBED10D28#32
  | 51 => 0x3FCDBDB8#32
  | 52 => 0x3F71FF52#32
  | 53 => 0xBFA443EA#32
  | 54 => 0x3F209170#32
  | 55 => 0x3EC4F7F8#32
  | 56 => 0x3EF3E778#32
  | 57 => 0x3F5CC782#32
  | 58 => 0xBF2004FA#32
  | 59 => 0x3FA1F812#32
  | 60 => 0x3E2B751F#32
  | 61 => 0x3EB33A82#32
  | 62 => 0xBF03BAD0#32
  | 63 => 0x3FE0830E#32
  | 64 => 0x3F82CBEC#32
  | 65 => 0x3EB79461#32
  | 66 => 0xBF2062A5#32
  | 67 => 0xBE9CDF24#32
  | 68 => 0xBE6CD7D1#32
  | 69 => 0x3FA22720#32
  | 70 => 0x3DB2AAB7#32
  | 71 => 0x3F5AD4A6#32
  | 72 => 0x3F0D7E51#32
  | 73 => 0xBF11E460#32
  | 74 => 0x3FC6FBC8#32
  | 75 => 0xBE0AB669#32
  | 76 => 0x3FA6C2FE#32
  | 77 => 0x3E8615CB#32
  | 78 => 0x402F283C#32
  | 79 => 0xBF5E619B#32
  | 80 => 0x3E8F8E4E#32
  | 81 => 0xBD4B0AE0#32
  | 82 => 0x3F898422#32
  | 83 => 0xBF9141C4#32
  | 84 => 0xBE2C974B#32
  | 85 => 0x3F0E48CD#32
  | 86 => 0x40417CCA#32
  | 87 => 0xBEC900C6#32
  | 88 => 0x3EBB5163#32
  | 89 => 0x3C9D87E6#32
  | 90 => 0xBEC0358F#32
  | 91 => 0x3FD99150#32
  | 92 => 0x3FAE01BD#32
  | 93 => 0x3F845303#32
  | 94 => 0x3EB67DFC#32
  | 95 => 0x3E253E92#32
  | 96 => 0x3EA05529#32
  | 97 => 0x40A4E206#32
  | 98 => 0x3F1C82AC#32
  | 99 => 0x3F69F2FE#32
  | 100 => 0xBE85BB01#32
  | 101 => 0x4021AB61#32
  | 102 => 0x3F11BF4A#32
  | 103 => 0x3E0CACD2#32
  | 104 => 0x3F38DFD2#32
  | 105 => 0xBE218891#32
  | 106 => 0x40095047#32
  | 107 => 0x3E8E9AE6#32
  | 108 => 0xBEE5D7C3#32
  | 109 => 0xBE9CEF91#32
  | 110 => 0x401F2425#32
  | 111 => 0xBEC29AAF#32
  | 112 => 0x3F6AF3EA#32
  | 113 => 0x3E961094#32
  | 114 => 0xBF8B0214#32
  | 115 => 0xBE573EC8#32
  | 116 => 0xBE9F324B#32
  | 117 => 0x3FA11A49#32
  | 118 => 0xBF50B383#32
  | 119 => 0x3ED42A24#32
  | 120 => 0x3F346A7C#32
  | 121 => 0x3ED62B66#32
  | 122 => 0x3D4CF9C6#32
  | 123 => 0x3FF7164B#32
  | 124 => 0xBE830440#32
  | 125 => 0xBFA32915#32
  | 126 => 0x40422087#32
  | 127 => 0xBF939765#32
  | _ => 0#32

noncomputable abbrev lit0t0_734 (i : Nat) : BitVec 32 := match i % 128 with
  | 0 => 0x405C8B34#32
  | 1 => 0x3FEA1B1C#32
  | 2 => 0x3EB7D815#32
  | 3 => 0x3F8542F0#32
  | 4 => 0xBE928726#32
  | 5 => 0xBFA7988C#32
  | 6 => 0xBF912357#32
  | 7 => 0x405CAA7C#32
  | 8 => 0xBEC0736B#32
  | 9 => 0xBE6FC71C#32
  | 10 => 0x3F8FD752#32
  | 11 => 0x3FA98434#32
  | 12 => 0x3F12030F#32
  | 13 => 0x3FBB8AAE#32
  | 14 => 0x3F0022C1#32
  | 15 => 0x3F62097F#32
  | 16 => 0x409EE8F8#32
  | 17 => 0xBF98B8B0#32
  | 18 => 0x403B8D7E#32
  | 19 => 0x3E520DDB#32
  | 20 => 0xBF92B37A#32
  | 21 => 0x3FBC9AC3#32
  | 22 => 0x3F7D2BF2#32
  | 23 => 0xBEA8D158#32
  | 24 => 0x3EAC8BAB#32
  | 25 => 0x3FCB8E90#32
  | 26 => 0xBFA651FA#32
  | 27 => 0x3EAFE3BA#32
  | 28 => 0xBD649E5B#32
  | 29 => 0x3D155AC0#32
  | 30 => 0x3F321572#32
  | 31 => 0x3FEB5009#32
  | 32 => 0x3E70441E#32
  | 33 => 0x40BA618D#32
  | 34 => 0x4037B0F2#32
  | 35 => 0x3FAAD7CA#32
  | 36 => 0xBF3A833E#32
  | 37 => 0xBFAD18B1#32
  | 38 => 0x3E99654C#32
  | 39 => 0xBF88883D#32
  | 40 => 0x3D97A8A0#32
  | 41 => 0x401F6958#32
  | 42 => 0xBD6E9BFE#32
  | 43 => 0x4018142B#32
  | 44 => 0xBD6E9234#32
  | 45 => 0xBF2A795F#32
  | 46 => 0x3F572962#32
  | 47 => 0x3F3D6C95#32
  | 48 => 0xBEA2D70A#32
  | 49 => 0x3FBD1EDB#32
  | 50 => 0x3F8E162A#32
  | 51 => 0xBF061DF5#32
  | 52 => 0x3CF284BC#32
  | 53 => 0xBE54517D#32
  | 54 => 0xBE87103B#32
  | 55 => 0xBF0249E3#32
  | 56 => 0x4089E2D9#32
  | 57 => 0xBEFD700E#32
  | 58 => 0x3F6A8130#32
  | 59 => 0x3F9570A1#32
  | 60 => 0x3DE1081E#32
  | 61 => 0x403CF689#32
  | 62 => 0x3EDFCD99#32
  | 63 => 0x3F44E6C1#32
  | 64 => 0x3F2A022F#32
  | 65 => 0x3EEA4EAA#32
  | 66 => 0x3EC3608D#32
  | 67 => 0x401C6C7E#32
  | 68 => 0xBEA0D135#32
  | 69 => 0xBFCB2992#32
  | 70 => 0xBFD62AA0#32
  | 71 => 0xBF5A55C9#32
  | 72 => 0xBE30858E#32
  | 73 => 0xBF95E720#32
  | 74 => 0x3F7389C2#32
  | 75 => 0xBF1DFC52#32
  | 76 => 0xBF749BAB#32
  | 77 => 0xBF979DC6#32
  | 78 => 0x3EC68E90#32
  | 79 => 0xBF0F1A01#32
  | 80 => 0x3FAA43C5#32
  | 81 => 0x401927A0#32
  | 82 => 0xBEB44581#32
  | 83 => 0x40139162#32
  | 84 => 0xBF0B9F36#32
  | 85 => 0xBE56A8D6#32
  | 86 => 0x3DB5BF9A#32
  | 87 => 0xBF31C5FC#32
  | 88 => 0x3F471A4E#32
  | 89 => 0xBF29B5B3#32
  | 90 => 0x3FA10A52#32
  | 91 => 0x4015EFFC#32
  | 92 => 0x3ED6E5E7#32
  | 93 => 0x3E9D0BFD#32
  | 94 => 0x3F4F171D#32
  | 95 => 0xBF163F46#32
  | 96 => 0x3F3141E9#32
  | 97 => 0xBF506F64#32
  | 98 => 0x3DAC84AB#32
  | 99 => 0xBEABCE5E#32
  | 100 => 0xBE245663#32
  | 101 => 0x3FC9CD1F#32
  | 102 => 0x3F284ABA#32
  | 103 => 0xBF2AA119#32
  | 104 => 0x3E96803C#32
  | 105 => 0x3E578FC2#32
  | 106 => 0xBE3D838D#32
  | 107 => 0x3E83FA9E#32
  | 108 => 0x3F67F6BA#32
  | 109 => 0x3F172D5A#32
  | 110 => 0x3F715816#32
  | 111 => 0x401FD5A7#32
  | 112 => 0xBF08F44A#32
  | 113 => 0x3E0F89FE#32
  | 114 => 0x3F768702#32
  | 115 => 0xBD2CB44D#32
  | 116 => 0xBFA974B0#32
  | 117 => 0xBF45FEA3#32
  | 118 => 0x3CBB681C#32
  | 119 => 0xBEB3E9A6#32
  | 120 => 0x3FBE797D#32
  | 121 => 0x3E91E8C6#32
  | 122 => 0x3FC74D59#32
  | 123 => 0x3FD9DFD2#32
  | 124 => 0x3E9F000D#32
  | 125 => 0xBFE7E966#32
  | 126 => 0xBF5BD389#32
  | 127 => 0xBF3F6B7A#32
  | _ => 0#32

noncomputable abbrev lit0t0_735 (i : Nat) : BitVec 32 := match i % 128 with
  | 0 => 0x4082D057#32
  | 1 => 0xBF3BB2DD#32
  | 2 => 0xBE138636#32
  | 3 => 0xBE5E3060#32
  | 4 => 0xBE9191A2#32
  | 5 => 0xBF58DC74#32
  | 6 => 0x3F206D3A#32
  | 7 => 0x3F8DA13A#32
  | 8 => 0x401F269E#32
  | 9 => 0x3F54C0E3#32
  | 10 => 0xBF3F0CCD#32
  | 11 => 0x3F62670F#32
  | 12 => 0x40B4FF2B#32
  | 13 => 0xBD814CD0#32
  | 14 => 0xBFAD9A30#32
  | 15 => 0xBF7A8983#32
  | 16 => 0x3ECB7A5F#32
  | 17 => 0x3EE0A06D#32
  | 18 => 0x4072A772#32
  | 19 => 0xBF73D666#32
  | 20 => 0xBF1842C1#32
  | 21 => 0x3F3633C2#32
  | 22 => 0xBEBF020A#32
  | 23 => 0xBE9FE52C#32
  | 24 => 0x3F85DD8E#32
  | 25 => 0xBFA4721D#32
  | 26 => 0x3D6ADF6E#32
  | 27 => 0x3D03B25E#32
  | 28 => 0x3FC78477#32
  | 29 => 0x402E8EF1#32
  | 30 => 0xBF288878#32
  | 31 => 0x408E57F4#32
  | 32 => 0x3F2A30E5#32
  | 33 => 0xBF9652F5#32
  | 34 => 0x405C143F#32
  | 35 => 0xBDC9A193#32
  | 36 => 0x406D6E7E#32
  | 37 => 0x3FE9CF68#32
  | 38 => 0x40124D02#32
  | 39 => 0xBE91C782#32
  | 40 => 0xBF6B0BC1#32
  | 41 => 0x3F1532FD#32
  | 42 => 0xBF80ED2A#32
  | 43 => 0x3F918993#32
  | 44 => 0xBEDEF424#32
  | 45 => 0x3F5F2978#32
  | 46 => 0x402989D7#32
  | 47 => 0x3D3D2E24#32
  | 48 => 0x3EBE5617#32
  | 49 => 0x3FA0F72B#32
  | 50 => 0xBEAE7068#32
  | 51 => 0x3FF427D4#32
  | 52 => 0xBF99FAE9#32
  | 53 => 0x400DE708#32
  | 54 => 0x3FCAB10D#32
  | 55 => 0x3FB3688E#32
  | 56 => 0x4020DC74#32
  | 57 => 0x3DBFEC8A#32
  | 58 => 0xBEAB0FC7#32
  | 59 => 0x3F3410AE#32
  | 60 => 0x400A7EDA#32
  | 61 => 0x3F404394#32
  | 62 => 0x3FE8ADAC#32
  | 63 => 0x3EDEFC5E#32
  | 64 => 0xBFC40755#32
  | 65 => 0x3FDFFF4E#32
  | 66 => 0x3F258948#32
  | 67 => 0xBE9078A3#32
  | 68 => 0x402A29AE#32
  | 69 => 0x3DFF3026#32
  | 70 => 0x3F031E60#32
  | 71 => 0xBEFB898C#32
  | 72 => 0x3E96A8BF#32
  | 73 => 0x3E283AF1#32
  | 74 => 0x3EE936CD#32
  | 75 => 0xBF89DA2A#32
  | 76 => 0x3FD6E081#32
  | 77 => 0x3E39D26E#32
  | 78 => 0xBEAB410F#32
  | 79 => 0x3FF88803#32
  | 80 => 0x3F7E3010#32
  | 81 => 0xBF899309#32
  | 82 => 0xBD096A03#32
  | 83 => 0x40060976#32
  | 84 => 0x3F8735C5#32
  | 85 => 0xBF43843C#32
  | 86 => 0x3FD7548A#32
  | 87 => 0x3F188685#32
  | 88 => 0x3E98B729#32
  | 89 => 0x401A4871#32
  | 90 => 0x40259E0C#32
  | 91 => 0x3F239B7F#32
  | 92 => 0x3F7D0F12#32
  | 93 => 0xBFB85529#32
  | 94 => 0xBF9AF8A9#32
  | 95 => 0xBF98C156#32
  | 96 => 0x3F9F4109#32
  | 97 => 0x401CCD2D#32
  | 98 => 0xBF8AB58E#32
  | 99 => 0x3FEBFCC9#32
  | 100 => 0xBF52D212#32
  | 101 => 0x3F8875F1#32
  | 102 => 0x3F98EEBA#32
  | 103 => 0x3F2CCA16#32
  | 104 => 0x3EC6FBD3#32
  | 105 => 0x409EC3D0#32
  | 106 => 0xBF449AE5#32
  | 107 => 0xBFAFAAB5#32
  | 108 => 0x3DA0CCE1#32
  | 109 => 0xBFC50DA7#32
  | 110 => 0x3E860DC6#32
  | 111 => 0x3F74479C#32
  | 112 => 0xBEA1DE65#32
  | 113 => 0x3DAD02FA#32
  | 114 => 0x3F72E2D4#32
  | 115 => 0x408DE74C#32
  | 116 => 0x401317CE#32
  | 117 => 0xBE463A94#32
  | 118 => 0x3FA863E9#32
  | 119 => 0x3F17D293#32
  | 120 => 0x3F7C379C#32
  | 121 => 0x3F7CF32C#32
  | 122 => 0xBF1C71B0#32
  | 123 => 0x3FB54E4C#32
  | 124 => 0xBF74F64E#32
  | 125 => 0x3F420D3E#32
  | 126 => 0xBF334490#32
  | 127 => 0x3EB42A0B#32
  | _ => 0#32

noncomputable abbrev lit0t0_736 (i : Nat) : BitVec 32 := match i % 128 with
  | 0 => 0x3FB1BE6E#32
  | 1 => 0x3F8D0096#32
  | 2 => 0xBEBB937F#32
  | 3 => 0x401DE749#32
  | 4 => 0x3ED76886#32
  | 5 => 0x3F99420D#32
  | 6 => 0xBE0370C4#32
  | 7 => 0x3F45AA5E#32
  | 8 => 0x40397103#32
  | 9 => 0x3F906883#32
  | 10 => 0xBF554273#32
  | 11 => 0x3E1E8B3C#32
  | 12 => 0x3FAE0290#32
  | 13 => 0x400A15CE#32
  | 14 => 0x3FA93958#32
  | 15 => 0x4051F7CD#32
  | 16 => 0xBE85BD8E#32
  | 17 => 0x3F86FDE9#32
  | 18 => 0xBF7B0056#32
  | 19 => 0x3DB85012#32
  | 20 => 0x3E833CF2#32
  | 21 => 0x3F77F597#32
  | 22 => 0xBF0ADEB6#32
  | 23 => 0x3E010DC2#32
  | 24 => 0x3D17F4DF#32
  | 25 => 0xBEE99A12#32
  | 26 => 0xBE93A582#32
  | 27 => 0x3FB9758A#32
  | 28 => 0x3F289695#32
  | 29 => 0xBE87ADFE#32
  | 30 => 0x3E293C20#32
  | 31 => 0x3ED05448#32
  | 32 => 0x3EEEEF5C#32
  | 33 => 0x4019D458#32
  | 34 => 0xBD8D1AA7#32
  | 35 => 0x3F9A785D#32
  | 36 => 0xBFE4860E#32
  | 37 => 0x3EDD9906#32
  | 38 => 0xBF882A31#32
  | 39 => 0x3F8750E1#32
  | 40 => 0xBD862F00#32
  | 41 => 0xBF216C84#32
  | 42 => 0xBF63ADB3#32
  | 43 => 0x3E322164#32
  | 44 => 0x3FE9DF92#32
  | 45 => 0x3F1754A0#32
  | 46 => 0x3E5BC518#32
  | 47 => 0x3EA37ACA#32
  | 48 => 0x3F1BA9AF#32
  | 49 => 0x3FD57849#32
  | 50 => 0x4064C791#32
  | 51 => 0x3F6E889B#32
  | 52 => 0xBF9944EC#32
  | 53 => 0x3D595178#32
  | 54 => 0x3F548996#32
  | 55 => 0x3FBD6FD0#32
  | 56 => 0x3F2FB307#32
  | 57 => 0xBD8820BB#32
  | 58 => 0xBFC1D6B6#32
  | 59 => 0x3F156CDE#32
  | 60 => 0xBE9A4424#32
  | 61 => 0xBEC016F6#32
  | 62 => 0xBEF20D70#32
  | 63 => 0x3FE1A123#32
  | 64 => 0x3E50005C#32
  | 65 => 0x3D51E394#32
  | 66 => 0x3EED20C6#32
  | 67 => 0x3F6685F4#32
  | 68 => 0x3FEF989F#32
  | 69 => 0x3F89EB90#32
  | 70 => 0x3F406E04#32
  | 71 => 0x3F6F72AC#32
  | 72 => 0x3FF7CC98#32
  | 73 => 0x3FAEA745#32
  | 74 => 0x3F6367FC#32
  | 75 => 0xBF7DFB48#32
  | 76 => 0x3F4E3A59#32
  | 77 => 0xBFDBF0DB#32
  | 78 => 0x3FBE2D63#32
  | 79 => 0x3ECC3BDF#32
  | 80 => 0x3EDEA5F1#32
  | 81 => 0xBE792F13#32
  | 82 => 0x4017C47F#32
  | 83 => 0x3ECC39F7#32
  | 84 => 0x3F795B17#32
  | 85 => 0xBD00E3BF#32
  | 86 => 0x3EDFF995#32
  | 87 => 0x3F8C5B0A#32
  | 88 => 0x409A5758#32
  | 89 => 0xBF2CC675#32
  | 90 => 0x3E4D60D1#32
  | 91 => 0xBE85AAB0#32
  | 92 => 0x3FB414D7#32
  | 93 => 0xBF2843FD#32
  | 94 => 0x40167D68#32
  | 95 => 0xBF638329#32
  | 96 => 0xBE94DB34#32
  | 97 => 0xBF7E8893#32
  | 98 => 0xBF55DEE8#32
  | 99 => 0x3F6DEE2A#32
  | 100 => 0x3FDC1141#32
  | 101 => 0xBE4BA34E#32
  | 102 => 0x40BAEF54#32
  | 103 => 0x404E9A2F#32
  | 104 => 0x3ECC4185#32
  | 105 => 0xBF36B0DE#32
  | 106 => 0x3FAF43D6#32
  | 107 => 0x3FD609D8#32
  | 108 => 0x3E6E97B9#32
  | 109 => 0x3FF75A4E#32
  | 110 => 0x407DF385#32
  | 111 => 0x3EE95EC2#32
  | 112 => 0x400661EC#32
  | 113 => 0xBF1F9A08#32
  | 114 => 0x3E336558#32
  | 115 => 0x3F921600#32
  | 116 => 0x3EC0AFA8#32
  | 117 => 0xBD1BC84A#32
  | 118 => 0x3FC5DD2E#32
  | 119 => 0x403B7110#32
  | 120 => 0xBF550A07#32
  | 121 => 0xBF91FADE#32
  | 122 => 0x3FA2DA7A#32
  | 123 => 0xBF0A9900#32
  | 124 => 0xBFA38626#32
  | 125 => 0x3FD19EBF#32
  | 126 => 0xBEAED5FA#32
  | 127 => 0x3FC5C0A8#32
  | _ => 0#32

noncomputable abbrev lit0t0_737 (i : Nat) : BitVec 32 := match i % 128 with
  | 0 => 0xBEEEEF55#32
  | 1 => 0x3F8FA22D#32
  | 2 => 0x406C20E5#32
  | 3 => 0x3EDA81C1#32
  | 4 => 0x3D75B7BE#32
  | 5 => 0x3FAD02CC#32
  | 6 => 0xBEF55494#32
  | 7 => 0x3FC88D21#32
  | 8 => 0x3EF136B6#32
  | 9 => 0x3F5E4B2A#32
  | 10 => 0x402A6F73#32
  | 11 => 0x400C12A4#32
  | 12 => 0x3F8D94BC#32
  | 13 => 0xBF5B0B26#32
  | 14 => 0xBF26B616#32
  | 15 => 0x3F98A8A9#32
  | 16 => 0xBF51B702#32
  | 17 => 0x3F24BA75#32
  | 18 => 0x3D993979#32
  | 19 => 0x3FB83F9A#32
  | 20 => 0x3F608D76#32
  | 21 => 0x3F1BC0FC#32
  | 22 => 0x3FA16CFB#32
  | 23 => 0xBE03C9E2#32
  | 24 => 0x3F1195B3#32
  | 25 => 0x3F0746C7#32
  | 26 => 0x3FC4E4A8#32
  | 27 => 0x3E0198F2#32
  | 28 => 0x3FAAA4E7#32
  | 29 => 0x3E91C30C#32
  | 30 => 0xBF3FA675#32
  | 31 => 0xBEB4C6DB#32
  | 32 => 0x3DBB8F45#32
  | 33 => 0x405B382D#32
  | 34 => 0xBEA30C3E#32
  | 35 => 0x3EE1C01F#32
  | 36 => 0x3FEE5D20#32
  | 37 => 0xBF728ADA#32
  | 38 => 0x4037D924#32
  | 39 => 0x3ADF4EAB#32
  | 40 => 0x3F38C837#32
  | 41 => 0x3F569FFD#32
  | 42 => 0xBEDAAB72#32
  | 43 => 0x3DBFDF3A#32
  | 44 => 0xBF421338#32
  | 45 => 0xBED8AD74#32
  | 46 => 0xBF513CC8#32
  | 47 => 0x3FC42061#32
  | 48 => 0xBF404C24#32
  | 49 => 0xBF0CEADE#32
  | 50 => 0x4030AC53#32
  | 51 => 0xBDB38D5D#32
  | 52 => 0x3FB036AC#32
  | 53 => 0x401EC3F0#32
  | 54 => 0x3F582985#32
  | 55 => 0xBDCA2173#32
  | 56 => 0xBF14420F#32
  | 57 => 0x3FA5032C#32
  | 58 => 0x3F93A9A3#32
  | 59 => 0xBF28016F#32
  | 60 => 0xBF5F5294#32
  | 61 => 0xBC882641#32
  | 62 => 0xBE9068A8#32
  | 63 => 0x3E91C207#32
  | 64 => 0x3FCBB63D#32
  | 65 => 0x3FA12662#32
  | 66 => 0xBFBD9471#32
  | 67 => 0xBEDE8C15#32
  | 68 => 0xBE806349#32
  | 69 => 0xBF048A75#32
  | 70 => 0xBF7D9099#32
  | 71 => 0xBEF6774A#32
  | 72 => 0x3F19A956#32
  | 73 => 0xBF01798D#32
  | 74 => 0x40067664#32
  | 75 => 0x3FBD77B3#32
  | 76 => 0x3F29A037#32
  | 77 => 0xBE12EED0#32
  | 78 => 0x3FBF00A6#32
  | 79 => 0x3FF3CD66#32
  | 80 => 0x4048A73F#32
  | 81 => 0xBF477F4D#32
  | 82 => 0xBF3C32D3#32
  | 83 => 0x3DAF38AD#32
  | 84 => 0xBEB7ED92#32
  | 85 => 0x40011BAA#32
  | 86 => 0xBF90B793#32
  | 87 => 0x3FB58348#32
  | 88 => 0xBD844D25#32
  | 89 => 0xBEDF38A2#32
  | 90 => 0xBE8EA9DF#32
  | 91 => 0xBF4260D2#32
  | 92 => 0xBEF5F908#32
  | 93 => 0xBE779FAA#32
  | 94 => 0xBDB084A8#32
  | 95 => 0x3F6A18B6#32
  | 96 => 0x400EF807#32
  | 97 => 0x3F4AC4EA#32
  | 98 => 0xBFE4EA04#32
  | 99 => 0x402EB698#32
  | 100 => 0x40486549#32
  | 101 => 0xBE824AEF#32
  | 102 => 0x3F9B5DB7#32
  | 103 => 0xBED4D813#32
  | 104 => 0xBF406C41#32
  | 105 => 0xBF4E1D44#32
  | 106 => 0xBF2C83EC#32
  | 107 => 0x3EDC3C38#32
  | 108 => 0xBF326B31#32
  | 109 => 0xBEEC96E8#32
  | 110 => 0xBE12C7D3#32
  | 111 => 0x3F989A9C#32
  | 112 => 0xBF39FDE1#32
  | 113 => 0x3EF746B9#32
  | 114 => 0x3E9D5A71#32
  | 115 => 0x4088E284#32
  | 116 => 0xBEE4BB2E#32
  | 117 => 0x3EA14258#32
  | 118 => 0xBF1CF236#32
  | 119 => 0xBF37F74E#32
  | 120 => 0xBEA55DF7#32
  | 121 => 0x3EB67966#32
  | 122 => 0x3F2CBE65#32
  | 123 => 0x3F9642E6#32
  | 124 => 0x3FAD385E#32
  | 125 => 0xBE333E0C#32
  | 126 => 0x3EDBC556#32
  | 127 => 0xBF329D0B#32
  | _ => 0#32

noncomputable abbrev lit0t0_738 (i : Nat) : BitVec 32 := match i % 128 with
  | 0 => 0x3F1D6F55#32
  | 1 => 0x4032621E#32
  | 2 => 0x3FDD09AE#32
  | 3 => 0xBF88DEE0#32
  | 4 => 0x3FCDE508#32
  | 5 => 0xBBAC1026#32
  | 6 => 0x3FCEE9B3#32
  | 7 => 0x3E9B66A2#32
  | 8 => 0x3FEFC10B#32
  | 9 => 0x3F1EDF3D#32
  | 10 => 0x3D238EB4#32
  | 11 => 0xBEA15320#32
  | 12 => 0xBF37C4B1#32
  | 13 => 0xBF278989#32
  | 14 => 0x3EEE54C1#32
  | 15 => 0x3EAF3544#32
  | 16 => 0x3E22B877#32
  | 17 => 0xBF47991D#32
  | 18 => 0x3EA4318B#32
  | 19 => 0xBEBB7716#32
  | 20 => 0x4005CD00#32
  | 21 => 0xBDC6335F#32
  | 22 => 0x3F18B60C#32
  | 23 => 0x3F980757#32
  | 24 => 0xBDC43990#32
  | 25 => 0xBFDE9EC0#32
  | 26 => 0xBFC408CD#32
  | 27 => 0xBE134D1E#32
  | 28 => 0xBF9BAA10#32
  | 29 => 0x3FAB2DF3#32
  | 30 => 0x3FFC3C97#32
  | 31 => 0x40011303#32
  | 32 => 0xBE7434DF#32
  | 33 => 0x3EC3334A#32
  | 34 => 0x3F8127CA#32
  | 35 => 0x3F1EC374#32
  | 36 => 0xBF07D3B7#32
  | 37 => 0xBE699B08#32
  | 38 => 0x3F738FA0#32
  | 39 => 0x3FA923E2#32
  | 40 => 0x3F47E988#32
  | 41 => 0x3EB2293E#32
  | 42 => 0x3FBC9CBB#32
  | 43 => 0x3E9C3B98#32
  | 44 => 0x3F84E4B4#32
  | 45 => 0x3F825E55#32
  | 46 => 0x3D91E94E#32
  | 47 => 0xBFBA6E11#32
  | 48 => 0x3F21DD22#32
  | 49 => 0x3F7B1F2A#32
  | 50 => 0xBE3AA5A5#32
  | 51 => 0x3EB02B26#32
  | 52 => 0xBE5D4153#32
  | 53 => 0x3ECCF688#32
  | 54 => 0x3F2D6878#32
  | 55 => 0xBEBD2C9B#32
  | 56 => 0xBF894906#32
  | 57 => 0x3F7D3904#32
  | 58 => 0x3FAEA15A#32
  | 59 => 0x3F0D0ABC#32
  | 60 => 0x400F1E5D#32
  | 61 => 0xBEFABF33#32
  | 62 => 0x3FC4B9BA#32
  | 63 => 0xBF2FBC9D#32
  | 64 => 0x3F7A04F4#32
  | 65 => 0x3E528478#32
  | 66 => 0x3F525AFD#32
  | 67 => 0x3F54A225#32
  | 68 => 0x3F564CCC#32
  | 69 => 0x3F8B24B2#32
  | 70 => 0x3E9C4173#32
  | 71 => 0xBE0A4EE7#32
  | 72 => 0x40016B74#32
  | 73 => 0xBEE7ED96#32
  | 74 => 0xBF5D9B40#32
  | 75 => 0x3E23023C#32
  | 76 => 0x3FF857ED#32
  | 77 => 0x3F2A063A#32
  | 78 => 0xBF1CAA8E#32
  | 79 => 0xBEE8DE12#32
  | 80 => 0xBEE17E78#32
  | 81 => 0x3EB15617#32
  | 82 => 0x3F0E9CBA#32
  | 83 => 0x400B8FDE#32
  | 84 => 0x3FEA2613#32
  | 85 => 0x3FA20F01#32
  | 86 => 0x3F051D1A#32
  | 87 => 0x3F38A0EF#32
  | 88 => 0xBEA99BC1#32
  | 89 => 0xBE8FB9E6#32
  | 90 => 0x3F6AEF31#32
  | 91 => 0x3F7C2218#32
  | 92 => 0x3F8816C6#32
  | 93 => 0xBF0567EC#32
  | 94 => 0x3E92DC8F#32
  | 95 => 0x3D46DFF6#32
  | 96 => 0x40248CE6#32
  | 97 => 0x3EC52023#32
  | 98 => 0xBFAB6ADB#32
  | 99 => 0xBF0A8064#32
  | 100 => 0xBF6236BC#32
  | 101 => 0xBF2709FB#32
  | 102 => 0x3F81ED16#32
  | 103 => 0xBF235E3C#32
  | 104 => 0x3EE34BB8#32
  | 105 => 0x3D686B7D#32
  | 106 => 0xBE80F61D#32
  | 107 => 0x3F4B435C#32
  | 108 => 0xBF6B84C9#32
  | 109 => 0xBD90D9DA#32
  | 110 => 0x40213020#32
  | 111 => 0x3E68FF68#32
  | 112 => 0xBF3D1716#32
  | 113 => 0x4003BF9E#32
  | 114 => 0xBEAB58B7#32
  | 115 => 0x3D12A67F#32
  | 116 => 0xBF85F4FC#32
  | 117 => 0x402A9C7F#32
  | 118 => 0xBEEA960E#32
  | 119 => 0x40216584#32
  | 120 => 0x401B1DCC#32
  | 121 => 0xBEA64117#32
  | 122 => 0x3F800A39#32
  | 123 => 0x3F2F7A45#32
  | 124 => 0x40142B56#32
  | 125 => 0xBF83918E#32
  | 126 => 0x400BCFB8#32
  | 127 => 0x3EE3FFD2#32
  | _ => 0#32

noncomputable abbrev lit0t0_739 (i : Nat) : BitVec 32 := match i % 128 with
  | 0 => 0x3EC668D9#32
  | 1 => 0x3E498F89#32
  | 2 => 0xBF16E880#32
  | 3 => 0xBD03763C#32
  | 4 => 0xBF486ACD#32
  | 5 => 0xBE8E9F04#32
  | 6 => 0x3F2646BB#32
  | 7 => 0xBDAACDEA#32
  | 8 => 0x3FBFDCE9#32
  | 9 => 0x401F6844#32
  | 10 => 0xBF80EE3E#32
  | 11 => 0x3FAD31BA#32
  | 12 => 0x3E7D52CE#32
  | 13 => 0x3F9BF060#32
  | 14 => 0xBF52B09C#32
  | 15 => 0x3F11F5AF#32
  | 16 => 0xBF73DDE2#32
  | 17 => 0x4007CFD2#32
  | 18 => 0x3F49A32C#32
  | 19 => 0x3E832275#32
  | 20 => 0x402181E4#32
  | 21 => 0x40193135#32
  | 22 => 0xBFA02F54#32
  | 23 => 0x3F10A803#32
  | 24 => 0x3FB21FE0#32
  | 25 => 0x406CD674#32
  | 26 => 0x3F4F9526#32
  | 27 => 0xBE967BC1#32
  | 28 => 0x3E3C69ED#32
  | 29 => 0xBF2E1EB0#32
  | 30 => 0x3F459DB3#32
  | 31 => 0xBF0C6003#32
  | 32 => 0x3FD4F497#32
  | 33 => 0x408C22A6#32
  | 34 => 0xBF1DE1AB#32
  | 35 => 0x3FFEBD72#32
  | 36 => 0x3F92DCD3#32
  | 37 => 0x3EFF36C7#32
  | 38 => 0x3E9F84B8#32
  | 39 => 0x3F0C31BA#32
  | 40 => 0x3FFC364F#32
  | 41 => 0x4016AF14#32
  | 42 => 0x3F9596F7#32
  | 43 => 0x3F061BFC#32
  | 44 => 0x4041DE5B#32
  | 45 => 0x3E475D5D#32
  | 46 => 0xBE5C4785#32
  | 47 => 0x3EF44329#32
  | 48 => 0x3F1031E8#32
  | 49 => 0x40214D64#32
  | 50 => 0xBF3BC977#32
  | 51 => 0x3FA7EFDA#32
  | 52 => 0xBE5809BD#32
  | 53 => 0xBB911D9E#32
  | 54 => 0x3F1429BC#32
  | 55 => 0x409044D9#32
  | 56 => 0xBEF79C1F#32
  | 57 => 0xBFA66676#32
  | 58 => 0xBF0EBD88#32
  | 59 => 0x400B3E04#32
  | 60 => 0xBEB026CB#32
  | 61 => 0x3F57CB40#32
  | 62 => 0xBF17CFF2#32
  | 63 => 0xBF7069DC#32
  | 64 => 0x3F532882#32
  | 65 => 0x401BB6CE#32
  | 66 => 0xBF953A8E#32
  | 67 => 0xBDD4A386#32
  | 68 => 0x3FD65A85#32
  | 69 => 0xBF6BE87A#32
  | 70 => 0x4011FF53#32
  | 71 => 0x401F7D68#32
  | 72 => 0xBEEFAC8E#32
  | 73 => 0xBF597FD6#32
  | 74 => 0xBFA312A2#32
  | 75 => 0xBF517B4A#32
  | 76 => 0xBFC15DF7#32
  | 77 => 0xBC13C5E2#32
  | 78 => 0xBF2C1310#32
  | 79 => 0x401DC253#32
  | 80 => 0x3F591BD9#32
  | 81 => 0x3F0212F2#32
  | 82 => 0xBF891921#32
  | 83 => 0x40035F11#32
  | 84 => 0xBEEE579E#32
  | 85 => 0x40331F4B#32
  | 86 => 0x3ED5A994#32
  | 87 => 0xBE3759F6#32
  | 88 => 0x3FDAC5A9#32
  | 89 => 0x3ED453DD#32
  | 90 => 0x4010785B#32
  | 91 => 0xBF58CA07#32
  | 92 => 0x3F124D19#32
  | 93 => 0x3FD10608#32
  | 94 => 0x3E5C427F#32
  | 95 => 0xBC7049B5#32
  | 96 => 0xBEA46048#32
  | 97 => 0x3FCB9488#32
  | 98 => 0xBF17F3C2#32
  | 99 => 0x4097E72D#32
  | 100 => 0xBDC6F337#32
  | 101 => 0x3F7DC4F9#32
  | 102 => 0xBEC0AA31#32
  | 103 => 0x3EA439DE#32
  | 104 => 0x3FD385B2#32
  | 105 => 0x3E63BEFA#32
  | 106 => 0x3F732B9A#32
  | 107 => 0xBEADDE0B#32
  | 108 => 0x3F786E77#32
  | 109 => 0xBE3BB925#32
  | 110 => 0xBE1E8C0D#32
  | 111 => 0xBE38C0DB#32
  | 112 => 0x3CD093E7#32
  | 113 => 0x3E813E9A#32
  | 114 => 0x40607101#32
  | 115 => 0x3EDFC7C8#32
  | 116 => 0x3FD64487#32
  | 117 => 0x400B536B#32
  | 118 => 0xBE4E7AF3#32
  | 119 => 0xBF13E4E8#32
  | 120 => 0xBF861895#32
  | 121 => 0x3E47312D#32
  | 122 => 0x3E9BE9C7#32
  | 123 => 0x3F56ACBC#32
  | 124 => 0x3F688A0E#32
  | 125 => 0x4034688E#32
  | 126 => 0x3F818B95#32
  | 127 => 0x3F50E1DA#32
  | _ => 0#32

noncomputable abbrev lit0t0_740 (i : Nat) : BitVec 32 := match i % 128 with
  | 0 => 0xBF03BE06#32
  | 1 => 0xBF45821B#32
  | 2 => 0x3E74C032#32
  | 3 => 0x403DEB57#32
  | 4 => 0xBF5EF68F#32
  | 5 => 0x3F84788C#32
  | 6 => 0xBF061712#32
  | 7 => 0x3F01DBD4#32
  | 8 => 0x3FAC611D#32
  | 9 => 0x4059D67B#32
  | 10 => 0x3FCA52FC#32
  | 11 => 0xBD86CE05#32
  | 12 => 0x3E6868F7#32
  | 13 => 0xBF118992#32
  | 14 => 0xBECF9F08#32
  | 15 => 0xBE670234#32
  | 16 => 0x407A0D58#32
  | 17 => 0x3FA0B928#32
  | 18 => 0xBEFAF8EE#32
  | 19 => 0x3FA1DE27#32
  | 20 => 0x3E9538E1#32
  | 21 => 0x3E926808#32
  | 22 => 0x3F208661#32
  | 23 => 0x3F3D60B5#32
  | 24 => 0xBEEF2466#32
  | 25 => 0x3F9338B1#32
  | 26 => 0xBFBF4B1A#32
  | 27 => 0xBF0A524E#32
  | 28 => 0xBEBE4333#32
  | 29 => 0x3FB50728#32
  | 30 => 0x3F9450D6#32
  | 31 => 0x3FC3E823#32
  | 32 => 0x3EECA1D8#32
  | 33 => 0x40162CF1#32
  | 34 => 0x3E9AD75A#32
  | 35 => 0x3FEE481A#32
  | 36 => 0x4029F7EB#32
  | 37 => 0xBF8EA8DD#32
  | 38 => 0xBE2F9AF1#32
  | 39 => 0x3F14125A#32
  | 40 => 0xBE912D33#32
  | 41 => 0x4010B803#32
  | 42 => 0xBF8A752F#32
  | 43 => 0xBF6A57DA#32
  | 44 => 0x3F9A80B6#32
  | 45 => 0x3FD84365#32
  | 46 => 0x3FA10AB9#32
  | 47 => 0x40736EDF#32
  | 48 => 0x3FF78324#32
  | 49 => 0xBD33E6A4#32
  | 50 => 0x4004F828#32
  | 51 => 0x40215C8E#32
  | 52 => 0xBEADF434#32
  | 53 => 0xBFE1BC36#32
  | 54 => 0xBFFDE9BA#32
  | 55 => 0xBF52AF9C#32
  | 56 => 0x3E743694#32
  | 57 => 0xBF1BAB88#32
  | 58 => 0x404D832E#32
  | 59 => 0x3FC33D62#32
  | 60 => 0x3DD6413D#32
  | 61 => 0x3DA7C25B#32
  | 62 => 0x3FA076EC#32
  | 63 => 0xBF3CC78E#32
  | 64 => 0xBE416262#32
  | 65 => 0x3EEB6ED9#32
  | 66 => 0xBF6E83E8#32
  | 67 => 0xBE0551C2#32
  | 68 => 0x3EC654F9#32
  | 69 => 0x3F57F3E6#32
  | 70 => 0xBF9AA440#32
  | 71 => 0x3F0CD964#32
  | 72 => 0xBF4E0296#32
  | 73 => 0x3FA67304#32
  | 74 => 0x3F5AFB5A#32
  | 75 => 0x3FD5AB40#32
  | 76 => 0x4015B3DA#32
  | 77 => 0x404341DD#32
  | 78 => 0xBEE72768#32
  | 79 => 0xBE2269C1#32
  | 80 => 0xBE7C866B#32
  | 81 => 0x3F507B30#32
  | 82 => 0x3FC1F8F6#32
  | 83 => 0xBF1B8A61#32
  | 84 => 0xBF9ED9D8#32
  | 85 => 0xBF04AC01#32
  | 86 => 0x404994EA#32
  | 87 => 0xBF6B1E9E#32
  | 88 => 0xBE11A3AB#32
  | 89 => 0x3EFA41AC#32
  | 90 => 0x3D022037#32
  | 91 => 0x40A9BB87#32
  | 92 => 0x3DDB3FC3#32
  | 93 => 0xBE431524#32
  | 94 => 0xBFA6F570#32
  | 95 => 0xBF870A34#32
  | 96 => 0x3D2BAAD2#32
  | 97 => 0xBE52441C#32
  | 98 => 0xBFC5D0DF#32
  | 99 => 0x3DE38E3E#32
  | 100 => 0x3EDA0164#32
  | 101 => 0x3F45C943#32
  | 102 => 0x3FBCFE08#32
  | 103 => 0xBF7C0E93#32
  | 104 => 0x3FBA15B4#32
  | 105 => 0x3F129805#32
  | 106 => 0x3E7B17BF#32
  | 107 => 0x3EE910AA#32
  | 108 => 0x3E94F70E#32
  | 109 => 0x3FA39F8A#32
  | 110 => 0x3F0DE553#32
  | 111 => 0xBD9C2DFE#32
  | 112 => 0x3E725545#32
  | 113 => 0x3F9E0D13#32
  | 114 => 0x3FB5215A#32
  | 115 => 0x3ED0FF8C#32
  | 116 => 0x3F359BCD#32
  | 117 => 0xBF94CF6D#32
  | 118 => 0x3F652C4E#32
  | 119 => 0x4011CC27#32
  | 120 => 0xBF6CBE14#32
  | 121 => 0xBE56C6A8#32
  | 122 => 0x3F0D379C#32
  | 123 => 0xBE5D7753#32
  | 124 => 0xBEEE20D4#32
  | 125 => 0xBEB18BD2#32
  | 126 => 0x3FA6CB63#32
  | 127 => 0xBF5BF908#32
  | _ => 0#32

noncomputable abbrev lit0t0_741 (i : Nat) : BitVec 32 := match i % 128 with
  | 0 => 0xBEF15046#32
  | 1 => 0xBF04C3A6#32
  | 2 => 0x3E17456F#32
  | 3 => 0x406DAC2B#32
  | 4 => 0x3F8449A3#32
  | 5 => 0x3F0ADA3C#32
  | 6 => 0x3F15CD2C#32
  | 7 => 0x4042916B#32
  | 8 => 0xBF10A984#32
  | 9 => 0x3EDB21A1#32
  | 10 => 0xBF0B9690#32
  | 11 => 0x3F8BC6C5#32
  | 12 => 0xBD7DC67A#32
  | 13 => 0x3FC01812#32
  | 14 => 0xBF4C45E6#32
  | 15 => 0x3FC78454#32
  | 16 => 0xBCCB93CB#32
  | 17 => 0x3EB4267D#32
  | 18 => 0x3F8DF418#32
  | 19 => 0xBEA9CDE5#32
  | 20 => 0x3F41484F#32
  | 21 => 0xBDD4E936#32
  | 22 => 0x3EBF56BF#32
  | 23 => 0x3ECD83B3#32
  | 24 => 0xBD7A7FF7#32
  | 25 => 0x3FDDA9A5#32
  | 26 => 0x3F998AD0#32
  | 27 => 0xBFD02B53#32
  | 28 => 0xBF3155A8#32
  | 29 => 0xBE163338#32
  | 30 => 0x3FA8C05D#32
  | 31 => 0xBF315C95#32
  | 32 => 0xBE92B92F#32
  | 33 => 0x3FC3E30C#32
  | 34 => 0xBF178A64#32
  | 35 => 0xBE0DE42B#32
  | 36 => 0xBF305816#32
  | 37 => 0x3FCEF467#32
  | 38 => 0xBE6C6221#32
  | 39 => 0x3FC2501C#32
  | 40 => 0xBF281CA1#32
  | 41 => 0x3F29BD4E#32
  | 42 => 0x3F3C9977#32
  | 43 => 0xBE0DD77D#32
  | 44 => 0x3FB129FA#32
  | 45 => 0x4024A26C#32
  | 46 => 0x3FB4B6CE#32
  | 47 => 0x405CDECB#32
  | 48 => 0xBE0D93DE#32
  | 49 => 0x3F8705FE#32
  | 50 => 0xBF33890A#32
  | 51 => 0x3F9A5523#32
  | 52 => 0xBEB97095#32
  | 53 => 0x3F51975C#32
  | 54 => 0xBF01CB48#32
  | 55 => 0x40296602#32
  | 56 => 0x3FBFBD7B#32
  | 57 => 0xBF45FCA0#32
  | 58 => 0x3F6BFCC6#32
  | 59 => 0x3E63CE88#32
  | 60 => 0x3EF1F6E7#32
  | 61 => 0x3FA58AF6#32
  | 62 => 0x402D03E0#32
  | 63 => 0x3F18E31C#32
  | 64 => 0x3E60BD68#32
  | 65 => 0xBF094E8B#32
  | 66 => 0x401A0E68#32
  | 67 => 0xBDA2AB41#32
  | 68 => 0x3EBE6421#32
  | 69 => 0xBF9AEB6B#32
  | 70 => 0x3FCD1E3A#32
  | 71 => 0x3EE5C634#32
  | 72 => 0x408845FF#32
  | 73 => 0x3FF8416D#32
  | 74 => 0xBE662594#32
  | 75 => 0xBE8DD1CD#32
  | 76 => 0xBE87EDF3#32
  | 77 => 0xBEECE5DE#32
  | 78 => 0xBECA1C52#32
  | 79 => 0xBF6C6940#32
  | 80 => 0x40307C5F#32
  | 81 => 0x3F97F12C#32
  | 82 => 0x3FBF07DA#32
  | 83 => 0x4066E47C#32
  | 84 => 0xBFC600B0#32
  | 85 => 0xBF7696CD#32
  | 86 => 0xBE24031D#32
  | 87 => 0x3EDBB9C7#32
  | 88 => 0x3D6C7571#32
  | 89 => 0x3FD73C02#32
  | 90 => 0xBE3D7AFC#32
  | 91 => 0xBE948EF0#32
  | 92 => 0x3F334D8E#32
  | 93 => 0x3EE6D772#32
  | 94 => 0x3FF4294A#32
  | 95 => 0xBF40DAFA#32
  | 96 => 0x3FCDAEE8#32
  | 97 => 0x3EEEC6E0#32
  | 98 => 0x403D50EA#32
  | 99 => 0x3EADA649#32
  | 100 => 0x3FB409C1#32
  | 101 => 0x3FBAA777#32
  | 102 => 0xBF548A24#32
  | 103 => 0xBEAA40F9#32
  | 104 => 0x3FB1C186#32
  | 105 => 0xBF8498E0#32
  | 106 => 0x3F64F31E#32
  | 107 => 0x3F6350FB#32
  | 108 => 0x3E5402F5#32
  | 109 => 0x3F208774#32
  | 110 => 0x406518AF#32
  | 111 => 0xBF0393B5#32
  | 112 => 0x3F2D187E#32
  | 113 => 0x3F87DFC0#32
  | 114 => 0x3D162671#32
  | 115 => 0x3EF6A39C#32
  | 116 => 0x40183375#32
  | 117 => 0x40A6B3D2#32
  | 118 => 0x3FFE125D#32
  | 119 => 0x3F605547#32
  | 120 => 0xBF2BF173#32
  | 121 => 0x3F2580F1#32
  | 122 => 0xBE3BDE22#32
  | 123 => 0xBF53CD52#32
  | 124 => 0xBF6C96C3#32
  | 125 => 0x3FB47DC8#32
  | 126 => 0xBDBD0C9D#32
  | 127 => 0x3E0EDD64#32
  | _ => 0#32

noncomputable abbrev lit0t0_742 (i : Nat) : BitVec 32 := match i % 128 with
  | 0 => 0xBF5E9E2E#32
  | 1 => 0x3F8D70D5#32
  | 2 => 0xBDD095BE#32
  | 3 => 0x401E4111#32
  | 4 => 0xBF8EA630#32
  | 5 => 0xBF45D4A8#32
  | 6 => 0xBF2F8DB9#32
  | 7 => 0x3FFF31D9#32
  | 8 => 0xBF8E571A#32
  | 9 => 0x3FB37109#32
  | 10 => 0x3FF18468#32
  | 11 => 0x3EABE110#32
  | 12 => 0x3F7A0D44#32
  | 13 => 0x3FDEE52A#32
  | 14 => 0x3F499094#32
  | 15 => 0x3F7D3B85#32
  | 16 => 0xBDC26815#32
  | 17 => 0x3F956766#32
  | 18 => 0xBEC55844#32
  | 19 => 0x3F269084#32
  | 20 => 0x3F66B43B#32
  | 21 => 0xBF273E84#32
  | 22 => 0xBEAC1942#32
  | 23 => 0x3E62BD45#32
  | 24 => 0x3FF19649#32
  | 25 => 0x3FCE33B4#32
  | 26 => 0xBEB12AAB#32
  | 27 => 0xBFE00BB0#32
  | 28 => 0xBF911861#32
  | 29 => 0x3E1F8BB9#32
  | 30 => 0x4082F32A#32
  | 31 => 0xBE7CCF08#32
  | 32 => 0x3F7C6687#32
  | 33 => 0x3E966D8C#32
  | 34 => 0x3F059981#32
  | 35 => 0x3DF2F835#32
  | 36 => 0x3E317011#32
  | 37 => 0xBE3DBA51#32
  | 38 => 0x3FE17077#32
  | 39 => 0xBF9BB3B3#32
  | 40 => 0x3FF672BC#32
  | 41 => 0xBEAB54E0#32
  | 42 => 0xBEA4001B#32
  | 43 => 0x3F90E982#32
  | 44 => 0x40003732#32
  | 45 => 0x3FA16DE0#32
  | 46 => 0x3F02F19C#32
  | 47 => 0xBF5A0CDC#32
  | 48 => 0x3FED588B#32
  | 49 => 0x3F32B425#32
  | 50 => 0xBF59C8DE#32
  | 51 => 0xBE8428FB#32
  | 52 => 0xBC5F7F7A#32
  | 53 => 0xBF5FFC30#32
  | 54 => 0x3E98A56F#32
  | 55 => 0xBD724E47#32
  | 56 => 0xBDD28C83#32
  | 57 => 0x4039B548#32
  | 58 => 0xBF8F3C1F#32
  | 59 => 0xBF7FD528#32
  | 60 => 0x3FD4442E#32
  | 61 => 0x3FB26692#32
  | 62 => 0x401F16BA#32
  | 63 => 0x3F8F4D34#32
  | 64 => 0x3FD0E591#32
  | 65 => 0x3F79D650#32
  | 66 => 0x3FEC4725#32
  | 67 => 0xBEE8D798#32
  | 68 => 0x3EB1B9B9#32
  | 69 => 0x3F3C82F2#32
  | 70 => 0x3F9E6490#32
  | 71 => 0xBF7F8448#32
  | 72 => 0x4045901C#32
  | 73 => 0x3F04042F#32
  | 74 => 0x3E8158AC#32
  | 75 => 0x4060B2F7#32
  | 76 => 0x3C4DA709#32
  | 77 => 0x3FF1068C#32
  | 78 => 0xBF4CF395#32
  | 79 => 0x3EE7D5A2#32
  | 80 => 0xBF91A044#32
  | 81 => 0xBE94E50A#32
  | 82 => 0xBF02DDC1#32
  | 83 => 0x40878BC8#32
  | 84 => 0x400C4321#32
  | 85 => 0x3F4EF625#32
  | 86 => 0xBF9F957A#32
  | 87 => 0x4082072F#32
  | 88 => 0xBF631281#32
  | 89 => 0x3E3ECCF6#32
  | 90 => 0xBE53963D#32
  | 91 => 0x400E1A60#32
  | 92 => 0xBF51A4CE#32
  | 93 => 0xBEAFC59B#32
  | 94 => 0xBEB072B3#32
  | 95 => 0x3FF633DF#32
  | 96 => 0xBE7B8A48#32
  | 97 => 0x3F9ABA27#32
  | 98 => 0xBFBC171C#32
  | 99 => 0x3FC2E980#32
  | 100 => 0xBF094361#32
  | 101 => 0x3D450680#32
  | 102 => 0xBF994E99#32
  | 103 => 0xBF30C9DA#32
  | 104 => 0x3F87A829#32
  | 105 => 0x3EE75A10#32
  | 106 => 0x3F4FD8B2#32
  | 107 => 0x401E3FC2#32
  | 108 => 0x3F9F6F4B#32
  | 109 => 0x3E5D7667#32
  | 110 => 0x3F2FB8B1#32
  | 111 => 0x40360E70#32
  | 112 => 0xBE96AE02#32
  | 113 => 0xBE6E7080#32
  | 114 => 0xBE694F4C#32
  | 115 => 0x3F0A41FD#32
  | 116 => 0xBFC554B8#32
  | 117 => 0x3F226733#32
  | 118 => 0x3ECFEE15#32
  | 119 => 0x3F6BFA16#32
  | 120 => 0xBDCFF0F2#32
  | 121 => 0x3F340DBB#32
  | 122 => 0x3F98EC9D#32
  | 123 => 0x3F6ECA6A#32
  | 124 => 0xBE9B64EB#32
  | 125 => 0x3F723772#32
  | 126 => 0x3EF069F7#32
  | 127 => 0x3FF4D2BE#32
  | _ => 0#32

noncomputable abbrev lit0t0_743 (i : Nat) : BitVec 32 := match i % 128 with
  | 0 => 0xBF68B548#32
  | 1 => 0xBDC3289F#32
  | 2 => 0xBEBEBD0D#32
  | 3 => 0xBF0935AB#32
  | 4 => 0x3E8C471A#32
  | 5 => 0x3E929B59#32
  | 6 => 0xBD58F9B9#32
  | 7 => 0xBF8BF89E#32
  | 8 => 0x3DFA2024#32
  | 9 => 0xBE71B427#32
  | 10 => 0x4000ECB6#32
  | 11 => 0x3F356CEE#32
  | 12 => 0x403AEAA9#32
  | 13 => 0x3F280D28#32
  | 14 => 0x3F988A47#32
  | 15 => 0x3D3FFEE8#32
  | 16 => 0xBF7595A2#32
  | 17 => 0xBF32D94C#32
  | 18 => 0xBF677104#32
  | 19 => 0x3FD4CE14#32
  | 20 => 0x3E9DF4FF#32
  | 21 => 0x3F810A98#32
  | 22 => 0xBF82E0FA#32
  | 23 => 0x3F39B096#32
  | 24 => 0xBF16053A#32
  | 25 => 0x40324BBD#32
  | 26 => 0x3EF53D3C#32
  | 27 => 0xBFBD7598#32
  | 28 => 0x3F84BC3B#32
  | 29 => 0xBF39DB24#32
  | 30 => 0xBE68632D#32
  | 31 => 0x3D37A471#32
  | 32 => 0xBEC1A13E#32
  | 33 => 0x402F3CAD#32
  | 34 => 0x3E5616D6#32
  | 35 => 0x400ED615#32
  | 36 => 0xBF20818B#32
  | 37 => 0x40C0A560#32
  | 38 => 0x3F478937#32
  | 39 => 0x3F7B7B74#32
  | 40 => 0x3F0DCCDB#32
  | 41 => 0xBF313DCE#32
  | 42 => 0xBEDA61DB#32
  | 43 => 0x3F8347A7#32
  | 44 => 0x3E0BA961#32
  | 45 => 0xBF67D0AE#32
  | 46 => 0x3FF19960#32
  | 47 => 0xBE0445C5#32
  | 48 => 0x3FA135EB#32
  | 49 => 0x408EB083#32
  | 50 => 0xBEFD0255#32
  | 51 => 0x3F2AE506#32
  | 52 => 0xBF34B94B#32
  | 53 => 0x3FBA7F55#32
  | 54 => 0xBE2C1619#32
  | 55 => 0x3FAFC9FE#32
  | 56 => 0x3FF4D0C8#32
  | 57 => 0xBF0A123E#32
  | 58 => 0x3F091C9A#32
  | 59 => 0xBFD74819#32
  | 60 => 0x3FA225FC#32
  | 61 => 0xBF023D9E#32
  | 62 => 0x3E8CF72D#32
  | 63 => 0x3F9B52D0#32
  | 64 => 0xBDE13A11#32
  | 65 => 0x403A4635#32
  | 66 => 0x3F548294#32
  | 67 => 0x3EC885FF#32
  | 68 => 0x3DEE339B#32
  | 69 => 0x4015BFAE#32
  | 70 => 0xBF1A2849#32
  | 71 => 0x3F96412A#32
  | 72 => 0xBF6DBC90#32
  | 73 => 0x3F099F2E#32
  | 74 => 0x3F16EDF0#32
  | 75 => 0x3EA29B30#32
  | 76 => 0x3E604F17#32
  | 77 => 0x3FD04734#32
  | 78 => 0x3FC848D0#32
  | 79 => 0xBF67DDB8#32
  | 80 => 0x3DA7BD68#32
  | 81 => 0x3F0A719B#32
  | 82 => 0x3FC467F5#32
  | 83 => 0xBF9F684C#32
  | 84 => 0x3F447DB4#32
  | 85 => 0xBDA349ED#32
  | 86 => 0x4036B0E7#32
  | 87 => 0xBF10E657#32
  | 88 => 0x3FAF5BE0#32
  | 89 => 0x3E7FE58A#32
  | 90 => 0x4022B2F2#32
  | 91 => 0x3E71BE2F#32
  | 92 => 0xBF9FABED#32
  | 93 => 0x3F57CEDA#32
  | 94 => 0x3EAF2505#32
  | 95 => 0x4030E313#32
  | 96 => 0xBFC7A9B4#32
  | 97 => 0xBF246C30#32
  | 98 => 0x40149A93#32
  | 99 => 0x4030683E#32
  | 100 => 0x3F07E883#32
  | 101 => 0xBEA19ADC#32
  | 102 => 0x3FD9FD04#32
  | 103 => 0x3DDA5255#32
  | 104 => 0x3E87FA6F#32
  | 105 => 0x3EA09DFB#32
  | 106 => 0x3F64B6C6#32
  | 107 => 0x3F5ECC66#32
  | 108 => 0x3DC856FB#32
  | 109 => 0x3F427F48#32
  | 110 => 0x3D40C952#32
  | 111 => 0x3ECD9694#32
  | 112 => 0x4001B4F8#32
  | 113 => 0x3E962E2A#32
  | 114 => 0xBE66FDEA#32
  | 115 => 0x3F81420A#32
  | 116 => 0x3FC764E2#32
  | 117 => 0xBFC012D3#32
  | 118 => 0xBFA346B2#32
  | 119 => 0x3EE8A36D#32
  | 120 => 0x40B4487C#32
  | 121 => 0x3FFE52A5#32
  | 122 => 0x40394C32#32
  | 123 => 0xBF3BFD52#32
  | 124 => 0xBF7337CA#32
  | 125 => 0x3EE9A7CC#32
  | 126 => 0x4051A786#32
  | 127 => 0x406471C7#32
  | _ => 0#32

noncomputable abbrev lit0t0_744 (i : Nat) : BitVec 32 := match i % 128 with
  | 0 => 0xBE835B3D#32
  | 1 => 0xBF82CE53#32
  | 2 => 0x3F79A4EA#32
  | 3 => 0xBF5CC92C#32
  | 4 => 0x40326215#32
  | 5 => 0x404B5532#32
  | 6 => 0x3DDCFE05#32
  | 7 => 0xBF6BA89A#32
  | 8 => 0x3E7A5278#32
  | 9 => 0x3EE3794A#32
  | 10 => 0xBEBB2751#32
  | 11 => 0xBE3B1C88#32
  | 12 => 0x3E00F3BE#32
  | 13 => 0xBF7A9EDC#32
  | 14 => 0xBF80DF9B#32
  | 15 => 0xBE43FC51#32
  | 16 => 0x3FC342D4#32
  | 17 => 0x401A0A35#32
  | 18 => 0x3FA3B10E#32
  | 19 => 0xBE47E16A#32
  | 20 => 0x4027F8E6#32
  | 21 => 0xBF3F49C3#32
  | 22 => 0x40A75AA0#32
  | 23 => 0xBEFF890D#32
  | 24 => 0x3EEF1732#32
  | 25 => 0x3F83BF56#32
  | 26 => 0x3DBDBC99#32
  | 27 => 0x3EB11A17#32
  | 28 => 0x3F813234#32
  | 29 => 0x3DC8A452#32
  | 30 => 0x3F38ACF4#32
  | 31 => 0x3FE0C7A0#32
  | 32 => 0x40508038#32
  | 33 => 0xBEB1134E#32
  | 34 => 0x3ECD5E47#32
  | 35 => 0x40894244#32
  | 36 => 0x40B8D01F#32
  | 37 => 0xBF3EF11E#32
  | 38 => 0x3F70B20E#32
  | 39 => 0x3FA36053#32
  | 40 => 0x3E53D548#32
  | 41 => 0x3ED9BCAE#32
  | 42 => 0xBF4F5ED7#32
  | 43 => 0xBEDC0852#32
  | 44 => 0x3F838AD2#32
  | 45 => 0xBF092FAE#32
  | 46 => 0x3E05ABE5#32
  | 47 => 0x3D628339#32
  | 48 => 0x40831F56#32
  | 49 => 0x3E6358D9#32
  | 50 => 0x3FED616A#32
  | 51 => 0x3F3969B1#32
  | 52 => 0xBE471D7E#32
  | 53 => 0xBEFB02D4#32
  | 54 => 0x3FE3F077#32
  | 55 => 0x3EB9575A#32
  | 56 => 0x3E7F2012#32
  | 57 => 0xBF609AB2#32
  | 58 => 0x3FB3D2C5#32
  | 59 => 0x3FA12C24#32
  | 60 => 0xBF440EE9#32
  | 61 => 0xBD859D0D#32
  | 62 => 0x3FD648C0#32
  | 63 => 0x3F9D59A0#32
  | 64 => 0xBEA31B40#32
  | 65 => 0xBEF76D28#32
  | 66 => 0x3E9E0B2A#32
  | 67 => 0x3E983F3E#32
  | 68 => 0x3F061334#32
  | 69 => 0xBF30D320#32
  | 70 => 0x3F47217D#32
  | 71 => 0x3F569F20#32
  | 72 => 0x3F5559D8#32
  | 73 => 0xBFB7793E#32
  | 74 => 0x3FD56890#32
  | 75 => 0x3E2FCC5A#32
  | 76 => 0x400DCE46#32
  | 77 => 0xBDB2E2F3#32
  | 78 => 0xBEEC92F5#32
  | 79 => 0xBFA1E607#32
  | 80 => 0x3D8C9D8E#32
  | 81 => 0x3FAF7B10#32
  | 82 => 0xBF1522A1#32
  | 83 => 0x3F8ACA93#32
  | 84 => 0x3F95D200#32
  | 85 => 0x400F864E#32
  | 86 => 0x3E7267BD#32
  | 87 => 0x3F59102D#32
  | 88 => 0x3F0D6D8B#32
  | 89 => 0x3FAE29FE#32
  | 90 => 0x3F61619F#32
  | 91 => 0xBC2AB9FE#32
  | 92 => 0xBF955CA4#32
  | 93 => 0x3F6D2E1E#32
  | 94 => 0x3FB7DD43#32
  | 95 => 0x3D83B541#32
  | 96 => 0x3F820B9B#32
  | 97 => 0xBDA85793#32
  | 98 => 0x3F0DA4C6#32
  | 99 => 0x3F9B837E#32
  | 100 => 0x40774BD7#32
  | 101 => 0x3FADB322#32
  | 102 => 0x3D9699EE#32
  | 103 => 0xBFBCB835#32
  | 104 => 0x3FE93C2E#32
  | 105 => 0xBF54C4CA#32
  | 106 => 0x4038CAC8#32
  | 107 => 0x3E6634B5#32
  | 108 => 0x3E07C117#32
  | 109 => 0xC001669D#32
  | 110 => 0xBF463BB1#32
  | 111 => 0x3FF06960#32
  | 112 => 0x3FE3B354#32
  | 113 => 0xBEFEA9E7#32
  | 114 => 0x3F1929E3#32
  | 115 => 0xBF9410A9#32
  | 116 => 0x3FAF2BE5#32
  | 117 => 0xBE2AE10A#32
  | 118 => 0xBF7677B8#32
  | 119 => 0x3FB22CD4#32
  | 120 => 0x401B03EC#32
  | 121 => 0xBDD5A44D#32
  | 122 => 0x3FADCD81#32
  | 123 => 0xBFA02E5F#32
  | 124 => 0x3FC9CA02#32
  | 125 => 0x3FCDAC01#32
  | 126 => 0x400F35C5#32
  | 127 => 0x3DCAC061#32
  | _ => 0#32

noncomputable abbrev lit0t0_745 (i : Nat) : BitVec 32 := match i % 128 with
  | 0 => 0xBF35C94F#32
  | 1 => 0xBF16E5D2#32
  | 2 => 0xBEA7A3F4#32
  | 3 => 0x4019A61E#32
  | 4 => 0xBE45BD61#32
  | 5 => 0x3F4C44CB#32
  | 6 => 0x3F9A346B#32
  | 7 => 0x3EC75351#32
  | 8 => 0xBEA4CEF7#32
  | 9 => 0x3FDE4A26#32
  | 10 => 0xBF83D799#32
  | 11 => 0x3F2FA5EF#32
  | 12 => 0x3E1F1E27#32
  | 13 => 0x3ED824A5#32
  | 14 => 0xBF23523B#32
  | 15 => 0x3F81EEB7#32
  | 16 => 0x3E904602#32
  | 17 => 0x3DEF8AF8#32
  | 18 => 0xBFF1E5A3#32
  | 19 => 0x3F3455D6#32
  | 20 => 0x3DA2205E#32
  | 21 => 0x3C5242EA#32
  | 22 => 0x4001846A#32
  | 23 => 0x3F238060#32
  | 24 => 0x3F9BF3B7#32
  | 25 => 0xBE7D3067#32
  | 26 => 0x3FD9988E#32
  | 27 => 0x3E998DB0#32
  | 28 => 0x3F824319#32
  | 29 => 0xBDE28D18#32
  | 30 => 0xBF4E3394#32
  | 31 => 0xBEE34EA6#32
  | 32 => 0x40093718#32
  | 33 => 0x3FFC5F80#32
  | 34 => 0x3DCFD30D#32
  | 35 => 0xBEB9D2F7#32
  | 36 => 0xBE88DC4E#32
  | 37 => 0xBF095C76#32
  | 38 => 0xBEAB8B53#32
  | 39 => 0xBF1892EF#32
  | 40 => 0xBF1D4986#32
  | 41 => 0x4024E02F#32
  | 42 => 0x3FF21E47#32
  | 43 => 0xBF071D4B#32
  | 44 => 0x3E4BFF9F#32
  | 45 => 0xBE3EDA44#32
  | 46 => 0x3D8754C2#32
  | 47 => 0xBF63EA9A#32
  | 48 => 0x3F1C001A#32
  | 49 => 0xBE816E61#32
  | 50 => 0x3F20359B#32
  | 51 => 0x3FE6C53D#32
  | 52 => 0x3F202030#32
  | 53 => 0xBEAA3F5A#32
  | 54 => 0x403AE030#32
  | 55 => 0x3F39DC61#32
  | 56 => 0xBF368734#32
  | 57 => 0x3F65AE9C#32
  | 58 => 0xBE9F6C9A#32
  | 59 => 0x3FBDE0A6#32
  | 60 => 0x3E8755D0#32
  | 61 => 0x4072EDFC#32
  | 62 => 0x3F74886C#32
  | 63 => 0xBF306C95#32
  | 64 => 0x3FFCD092#32
  | 65 => 0xBF79A07D#32
  | 66 => 0x3E53633D#32
  | 67 => 0x3E03F8CC#32
  | 68 => 0x3F5D08ED#32
  | 69 => 0x3F781748#32
  | 70 => 0x3EB8FA7C#32
  | 71 => 0xBE30E690#32
  | 72 => 0x3E836962#32
  | 73 => 0xBDFC4821#32
  | 74 => 0x3F93894B#32
  | 75 => 0xBF56C58E#32
  | 76 => 0x3FB2EA1D#32
  | 77 => 0x3FB20144#32
  | 78 => 0x3FA74BAB#32
  | 79 => 0x3EF028B0#32
  | 80 => 0xBFE93214#32
  | 81 => 0xBD87F51A#32
  | 82 => 0x407CB2AA#32
  | 83 => 0x3E1C1F2C#32
  | 84 => 0x3F086781#32
  | 85 => 0x3F56909E#32
  | 86 => 0x3F89B646#32
  | 87 => 0xBF1493D3#32
  | 88 => 0xBFD71A13#32
  | 89 => 0x3F32D6C8#32
  | 90 => 0xBEA79ECF#32
  | 91 => 0x3D3AD67D#32
  | 92 => 0x3FBC9267#32
  | 93 => 0x3EA00426#32
  | 94 => 0xBEAEC432#32
  | 95 => 0x3FAAAD3C#32
  | 96 => 0x3F4CDAE3#32
  | 97 => 0xBF14D3F6#32
  | 98 => 0x4003C5E5#32
  | 99 => 0x4073A234#32
  | 100 => 0x3F088F50#32
  | 101 => 0x3F4939DA#32
  | 102 => 0x3FD98A70#32
  | 103 => 0xBF7A12D8#32
  | 104 => 0x3FD63F00#32
  | 105 => 0x4046900F#32
  | 106 => 0x3FD154FA#32
  | 107 => 0x3E259E08#32
  | 108 => 0xBF13E8EB#32
  | 109 => 0x3F5A4553#32
  | 110 => 0x3E1DAA64#32
  | 111 => 0x3FD89336#32
  | 112 => 0xBEDEBE9D#32
  | 113 => 0xBF004B0E#32
  | 114 => 0x402A90AB#32
  | 115 => 0x3F6FEFED#32
  | 116 => 0x3E553CB6#32
  | 117 => 0xBECC220C#32
  | 118 => 0x404E58C8#32
  | 119 => 0x402125B2#32
  | 120 => 0x3FF2695C#32
  | 121 => 0xBF0BBA4F#32
  | 122 => 0x3FC3DD62#32
  | 123 => 0x400F00E1#32
  | 124 => 0x3F915831#32
  | 125 => 0x3FB1EDFD#32
  | 126 => 0x3DDBE39C#32
  | 127 => 0x3EA14A1E#32
  | _ => 0#32

noncomputable abbrev lit0t0_746 (i : Nat) : BitVec 32 := match i % 128 with
  | 0 => 0x3F99FD48#32
  | 1 => 0x3FE7D41B#32
  | 2 => 0x4071C8A9#32
  | 3 => 0xBE7D25F5#32
  | 4 => 0x3EDD1D46#32
  | 5 => 0x3FC713E8#32
  | 6 => 0x3F92F97C#32
  | 7 => 0x3F96F4AE#32
  | 8 => 0xBD622A18#32
  | 9 => 0x3E098415#32
  | 10 => 0x3FB2F3A5#32
  | 11 => 0xBED939D9#32
  | 12 => 0xBF3E668B#32
  | 13 => 0x4018F3F3#32
  | 14 => 0x3D4B8D6E#32
  | 15 => 0x3FF704C7#32
  | 16 => 0xBF1519BE#32
  | 17 => 0xBFACF335#32
  | 18 => 0xBF884F6C#32
  | 19 => 0x3F7DAAA4#32
  | 20 => 0x3EA3077C#32
  | 21 => 0x3F02DFAB#32
  | 22 => 0x3CC60EA2#32
  | 23 => 0xBF67B44A#32
  | 24 => 0x3F47320D#32
  | 25 => 0x3FAFDEFF#32
  | 26 => 0xBE99BF6C#32
  | 27 => 0xBF028AC1#32
  | 28 => 0xBEA04427#32
  | 29 => 0x40816571#32
  | 30 => 0xBE365A3D#32
  | 31 => 0x40216B57#32
  | 32 => 0xBF782FB4#32
  | 33 => 0xBEF750FA#32
  | 34 => 0xBC6FFBDB#32
  | 35 => 0xBF0D47E5#32
  | 36 => 0xBFD92F10#32
  | 37 => 0xBE929725#32
  | 38 => 0x403EF3B2#32
  | 39 => 0x3ED561B6#32
  | 40 => 0xBF2A2076#32
  | 41 => 0xBE8DE7FE#32
  | 42 => 0x3F306AB2#32
  | 43 => 0x4005305E#32
  | 44 => 0xBE2FB81C#32
  | 45 => 0x402F5A9F#32
  | 46 => 0x3F8E143C#32
  | 47 => 0x3F615FE9#32
  | 48 => 0xBF5E1034#32
  | 49 => 0x3F0370AC#32
  | 50 => 0x400E8CC0#32
  | 51 => 0xBF807638#32
  | 52 => 0xBF32A000#32
  | 53 => 0xBF18A4DB#32
  | 54 => 0xBE42944D#32
  | 55 => 0xBF35F26D#32
  | 56 => 0xBF6E3FE1#32
  | 57 => 0xBF5365DC#32
  | 58 => 0x3FC48696#32
  | 59 => 0x3FE9BD22#32
  | 60 => 0x3FB204C5#32
  | 61 => 0x3EBD5CF0#32
  | 62 => 0x3FB67AB4#32
  | 63 => 0x3E40707B#32
  | 64 => 0x3F98D221#32
  | 65 => 0x3CE8BCE6#32
  | 66 => 0x40034821#32
  | 67 => 0x3F6303C4#32
  | 68 => 0x3F70E019#32
  | 69 => 0x3F6C8982#32
  | 70 => 0x3F1B5C63#32
  | 71 => 0x3F92F6BE#32
  | 72 => 0x3FD7FEF7#32
  | 73 => 0xBF740A40#32
  | 74 => 0xBE309D1F#32
  | 75 => 0x403A0EB0#32
  | 76 => 0x3F67DA7D#32
  | 77 => 0x3FD945BB#32
  | 78 => 0x3E67D9F1#32
  | 79 => 0xBF164EBA#32
  | 80 => 0xBF322B5D#32
  | 81 => 0x3F0A1F6A#32
  | 82 => 0xBE5ED8E2#32
  | 83 => 0x3F343553#32
  | 84 => 0x3FED5DAE#32
  | 85 => 0xBEBD0343#32
  | 86 => 0xBF9C850C#32
  | 87 => 0xBF18D244#32
  | 88 => 0xBE1B1954#32
  | 89 => 0x3FCAA480#32
  | 90 => 0xBCAD089D#32
  | 91 => 0x3FBFC760#32
  | 92 => 0x3E4994CE#32
  | 93 => 0x3F81FB0F#32
  | 94 => 0x3FC9F482#32
  | 95 => 0x3FB41C56#32
  | 96 => 0xBF109C0E#32
  | 97 => 0x3F00515C#32
  | 98 => 0x406668BF#32
  | 99 => 0xBF925FBC#32
  | 100 => 0x3FDF4DB1#32
  | 101 => 0x408FF25A#32
  | 102 => 0x3E03DA27#32
  | 103 => 0x3F352D4F#32
  | 104 => 0xBF161D68#32
  | 105 => 0x403C480E#32
  | 106 => 0x3D92D0C5#32
  | 107 => 0x3F3A20BD#32
  | 108 => 0xBF98B8D0#32
  | 109 => 0x3F8E4FBF#32
  | 110 => 0xBFA597D6#32
  | 111 => 0xBE4C50E9#32
  | 112 => 0xBF79078C#32
  | 113 => 0x4012FF29#32
  | 114 => 0x3D558155#32
  | 115 => 0xBE9BADEA#32
  | 116 => 0x40097CDC#32
  | 117 => 0x3DC27857#32
  | 118 => 0x3F39F903#32
  | 119 => 0xBE00450B#32
  | 120 => 0x3E71CB02#32
  | 121 => 0x3FC09753#32
  | 122 => 0x3FB7E8FE#32
  | 123 => 0xBF2246B5#32
  | 124 => 0x3FB5E510#32
  | 125 => 0xBFC97230#32
  | 126 => 0xBDCF6566#32
  | 127 => 0x3FFB2906#32
  | _ => 0#32

noncomputable abbrev lit0t0_747 (i : Nat) : BitVec 32 := match i % 128 with
  | 0 => 0xBF472557#32
  | 1 => 0x3F8A5EA3#32
  | 2 => 0x3F26FC3E#32
  | 3 => 0x3F02D00F#32
  | 4 => 0x3FBF805E#32
  | 5 => 0xBFBACD65#32
  | 6 => 0x3FC17422#32
  | 7 => 0x3F7D2872#32
  | 8 => 0x3FADE6DE#32
  | 9 => 0x3E85524B#32
  | 10 => 0x3FF8A17A#32
  | 11 => 0x404EC5C6#32
  | 12 => 0x3F1DF2AE#32
  | 13 => 0x3E401892#32
  | 14 => 0x3F8AF86C#32
  | 15 => 0x3FDC9523#32
  | 16 => 0x3EAFA482#32
  | 17 => 0xBF074AC6#32
  | 18 => 0x3E025B05#32
  | 19 => 0xBEE039EC#32
  | 20 => 0x3E0DAB55#32
  | 21 => 0xBD0E2A0C#32
  | 22 => 0xBF96AFEB#32
  | 23 => 0xBC59F144#32
  | 24 => 0x3EC286C3#32
  | 25 => 0x3F0575E0#32
  | 26 => 0x3E001E9E#32
  | 27 => 0xBEF08A92#32
  | 28 => 0x3F89E453#32
  | 29 => 0x3FF9C3B8#32
  | 30 => 0xBEFBFFFE#32
  | 31 => 0x3FD5115B#32
  | 32 => 0xBF19DB93#32
  | 33 => 0x3F61A36A#32
  | 34 => 0x409F432D#32
  | 35 => 0xBF3E5D90#32
  | 36 => 0x3E9E5F99#32
  | 37 => 0xBCF73FA2#32
  | 38 => 0x3F502569#32
  | 39 => 0x3EBE7726#32
  | 40 => 0x3F8AC2AC#32
  | 41 => 0x40390D35#32
  | 42 => 0xBF037651#32
  | 43 => 0x402BEFFE#32
  | 44 => 0xBF031BE1#32
  | 45 => 0x3FA001E3#32
  | 46 => 0xBF40D7B8#32
  | 47 => 0x3EB97A58#32
  | 48 => 0x3EA9FCD1#32
  | 49 => 0x3F1F182B#32
  | 50 => 0xBD8821E7#32
  | 51 => 0xBF425F9E#32
  | 52 => 0x3F42B150#32
  | 53 => 0x3E40A6E6#32
  | 54 => 0xBF32A97C#32
  | 55 => 0x3F5C590D#32
  | 56 => 0x3EE04B9C#32
  | 57 => 0xBEAF4725#32
  | 58 => 0x4006F6CF#32
  | 59 => 0xBF681BF9#32
  | 60 => 0xBEB7D93F#32
  | 61 => 0x3F8D8D92#32
  | 62 => 0xBF8AD71A#32
  | 63 => 0x3F5A6A7D#32
  | 64 => 0x3FD474D2#32
  | 65 => 0xBF95B45F#32
  | 66 => 0x403E0AD5#32
  | 67 => 0x3EBB9167#32
  | 68 => 0xBFD8EF20#32
  | 69 => 0x3FBB1307#32
  | 70 => 0x3EAACB69#32
  | 71 => 0x4030C2E7#32
  | 72 => 0x3F7F7040#32
  | 73 => 0x3F8E5F9B#32
  | 74 => 0xBF4545DA#32
  | 75 => 0xBEAF6538#32
  | 76 => 0x3F0F81CC#32
  | 77 => 0xBF59993A#32
  | 78 => 0xBEE79798#32
  | 79 => 0x3DB253E8#32
  | 80 => 0xBD6C297F#32
  | 81 => 0x3DFDDD9D#32
  | 82 => 0x3F6CA76E#32
  | 83 => 0x3F4B6AAA#32
  | 84 => 0x3F7BFCE0#32
  | 85 => 0x3E0E898C#32
  | 86 => 0x4036A5B3#32
  | 87 => 0x409388F9#32
  | 88 => 0xBEABC7C4#32
  | 89 => 0x3FA38E92#32
  | 90 => 0xBF89CDD0#32
  | 91 => 0x3EB13F5F#32
  | 92 => 0x3E60FD5B#32
  | 93 => 0x3F30CC60#32
  | 94 => 0xBF521581#32
  | 95 => 0x3F81F8D8#32
  | 96 => 0x3F769927#32
  | 97 => 0x3E89F83E#32
  | 98 => 0x3FBA3269#32
  | 99 => 0x3C8BAD1C#32
  | 100 => 0xBF333180#32
  | 101 => 0x3E02F97C#32
  | 102 => 0x400DDDCC#32
  | 103 => 0xBF783226#32
  | 104 => 0x40328E38#32
  | 105 => 0x40177CCA#32
  | 106 => 0xBF8ABF07#32
  | 107 => 0x3FF8C3C6#32
  | 108 => 0xBF15343B#32
  | 109 => 0x3F647219#32
  | 110 => 0x3DD77FF4#32
  | 111 => 0x401F5C49#32
  | 112 => 0x3F7E4412#32
  | 113 => 0xBF53A53E#32
  | 114 => 0x3F2B2D38#32
  | 115 => 0x3F885DC2#32
  | 116 => 0x3F2BB92B#32
  | 117 => 0xBDFA8788#32
  | 118 => 0x3EC770FA#32
  | 119 => 0xBED35DF0#32
  | 120 => 0xBEF39F1F#32
  | 121 => 0xBDEFA93F#32
  | 122 => 0x402BB2CD#32
  | 123 => 0x3F2843A2#32
  | 124 => 0x3F9D79AA#32
  | 125 => 0x3E63C6E2#32
  | 126 => 0x3F95EC25#32
  | 127 => 0x404F5B4D#32
  | _ => 0#32

noncomputable abbrev lit0t0_748 (i : Nat) : BitVec 32 := match i % 128 with
  | 0 => 0x3F96D820#32
  | 1 => 0x3F92A5CF#32
  | 2 => 0x3F3AEE99#32
  | 3 => 0x3F51EDA0#32
  | 4 => 0x3F30C5F8#32
  | 5 => 0xBEA15DFE#32
  | 6 => 0x3CC3AE50#32
  | 7 => 0x4009F0CE#32
  | 8 => 0x3F79EE30#32
  | 9 => 0x3E371B62#32
  | 10 => 0x3E90EF98#32
  | 11 => 0x3FA3D68D#32
  | 12 => 0xBE998963#32
  | 13 => 0x40306EBB#32
  | 14 => 0xBF3CEAC2#32
  | 15 => 0x4000AB05#32
  | 16 => 0x3D9A05B3#32
  | 17 => 0xBDB8B9CD#32
  | 18 => 0xBFC9C684#32
  | 19 => 0x3E2C11B5#32
  | 20 => 0x3F254B99#32
  | 21 => 0x3F5B894C#32
  | 22 => 0x3F1CEBBD#32
  | 23 => 0xBF96B883#32
  | 24 => 0xBCAC993D#32
  | 25 => 0xBFA07866#32
  | 26 => 0x3F36017A#32
  | 27 => 0xBEAA4E93#32
  | 28 => 0xBFCCBA2C#32
  | 29 => 0x3E4EA030#32
  | 30 => 0x3F15B1A2#32
  | 31 => 0x4088A264#32
  | 32 => 0x40587559#32
  | 33 => 0xBD9FF2D4#32
  | 34 => 0xBFB83936#32
  | 35 => 0xBF56E601#32
  | 36 => 0x403B5FF6#32
  | 37 => 0xBF41DAAB#32
  | 38 => 0x3FC2E762#32
  | 39 => 0x3EAD13BB#32
  | 40 => 0x3F2EF3BC#32
  | 41 => 0x3F4EDBBA#32
  | 42 => 0xBE607BAE#32
  | 43 => 0xBE7B5045#32
  | 44 => 0x3FC4F77D#32
  | 45 => 0x3EA041C2#32
  | 46 => 0x3FF030BA#32
  | 47 => 0xBF860BED#32
  | 48 => 0x3F748E63#32
  | 49 => 0xBF4EF809#32
  | 50 => 0x4019129F#32
  | 51 => 0x3F440DC9#32
  | 52 => 0x3FDA2DDB#32
  | 53 => 0x3DFFEAE7#32
  | 54 => 0x3E9200A9#32
  | 55 => 0x40639BFE#32
  | 56 => 0x3F3FC3DA#32
  | 57 => 0x3D5E1460#32
  | 58 => 0x3EE14F3D#32
  | 59 => 0xBF9D9E96#32
  | 60 => 0x3FA38842#32
  | 61 => 0x3F8F5404#32
  | 62 => 0xBEE9573E#32
  | 63 => 0x3F97357F#32
  | 64 => 0xBF654BFB#32
  | 65 => 0xBF4690C1#32
  | 66 => 0xBF97F759#32
  | 67 => 0x400D2689#32
  | 68 => 0x3FDA304E#32
  | 69 => 0xBDD4290A#32
  | 70 => 0x3F065064#32
  | 71 => 0xBF8BF328#32
  | 72 => 0xBE52A171#32
  | 73 => 0x403E2BB5#32
  | 74 => 0x40268A80#32
  | 75 => 0x3FF73C92#32
  | 76 => 0xBE9DDEFF#32
  | 77 => 0xBFB6B8BE#32
  | 78 => 0xBE81B101#32
  | 79 => 0xBE788814#32
  | 80 => 0x3FDD6E0B#32
  | 81 => 0xBE9DB04B#32
  | 82 => 0x3EFF6E14#32
  | 83 => 0x3F8A0778#32
  | 84 => 0x3F98E7F3#32
  | 85 => 0x3FE70C51#32
  | 86 => 0x3EB8E1C6#32
  | 87 => 0x3F82003B#32
  | 88 => 0x3FDD9120#32
  | 89 => 0x400598EF#32
  | 90 => 0xBFDB2F6A#32
  | 91 => 0xBC5F21C2#32
  | 92 => 0x3FAB8FA2#32
  | 93 => 0xBF6F6879#32
  | 94 => 0x3FEA80EC#32
  | 95 => 0xBE8C701D#32
  | 96 => 0x4000E638#32
  | 97 => 0xBEA68C3E#32
  | 98 => 0xC002DE15#32
  | 99 => 0x3EE99CA7#32
  | 100 => 0x402CF3E3#32
  | 101 => 0x3E4E3C47#32
  | 102 => 0x3F98B16A#32
  | 103 => 0x403E56DC#32
  | 104 => 0xBE5DEA0F#32
  | 105 => 0x3EE58582#32
  | 106 => 0xBE22E376#32
  | 107 => 0x3E03B318#32
  | 108 => 0x3FA00AC0#32
  | 109 => 0x3FE0E1F3#32
  | 110 => 0xBF1DFB9F#32
  | 111 => 0x3FC3C1C9#32
  | 112 => 0xBF3F0EF6#32
  | 113 => 0x3FD3BF61#32
  | 114 => 0x4026DDB6#32
  | 115 => 0x408310F1#32
  | 116 => 0xBF4B4DC0#32
  | 117 => 0xBFA13F93#32
  | 118 => 0xBF06ED21#32
  | 119 => 0xBF2F0380#32
  | 120 => 0x4002CD07#32
  | 121 => 0x3F5ED45D#32
  | 122 => 0x3F59A112#32
  | 123 => 0x40990430#32
  | 124 => 0x3F1DD2B8#32
  | 125 => 0x3F9EC093#32
  | 126 => 0x3FBC6C54#32
  | 127 => 0x403450FB#32
  | _ => 0#32

noncomputable abbrev lit0t0_749 (i : Nat) : BitVec 32 := match i % 128 with
  | 0 => 0xBF56A216#32
  | 1 => 0x3EE74500#32
  | 2 => 0x3E7F8D9B#32
  | 3 => 0x3E46F7AC#32
  | 4 => 0xBEC592B6#32
  | 5 => 0x3EFCD80C#32
  | 6 => 0x3F0B98D9#32
  | 7 => 0x3FFF7527#32
  | 8 => 0xBF4F2E6D#32
  | 9 => 0x3F8FE7CF#32
  | 10 => 0x3FF50481#32
  | 11 => 0x3FCAD60F#32
  | 12 => 0x3F370D5C#32
  | 13 => 0x3F1A1675#32
  | 14 => 0x3ECD9CBA#32
  | 15 => 0x40690F60#32
  | 16 => 0xBF60E8DD#32
  | 17 => 0x3EE25B1B#32
  | 18 => 0x3EC43FB1#32
  | 19 => 0xBF90B92A#32
  | 20 => 0xBFCE47B2#32
  | 21 => 0x3F68CF44#32
  | 22 => 0x3F908A02#32
  | 23 => 0x3F9557EA#32
  | 24 => 0x4059BBF6#32
  | 25 => 0x3E4E4B55#32
  | 26 => 0x3F08DB4A#32
  | 27 => 0xBE2E4656#32
  | 28 => 0x3F5409CA#32
  | 29 => 0xBFBA678D#32
  | 30 => 0xBF6C9442#32
  | 31 => 0x40361645#32
  | 32 => 0xBEC19B4E#32
  | 33 => 0x3F544322#32
  | 34 => 0x3F8CF1B9#32
  | 35 => 0x3D55C199#32
  | 36 => 0x3D89AB39#32
  | 37 => 0x3F995FBF#32
  | 38 => 0xBF7EC1A2#32
  | 39 => 0x3DB28EC1#32
  | 40 => 0x3DEA3522#32
  | 41 => 0x3E1FA763#32
  | 42 => 0xBF83800B#32
  | 43 => 0x3FBF75EC#32
  | 44 => 0xBF594C40#32
  | 45 => 0x3F21932A#32
  | 46 => 0x3FB37152#32
  | 47 => 0x3FEE9728#32
  | 48 => 0x3FC05DC2#32
  | 49 => 0x3DAB2789#32
  | 50 => 0x3D816BFB#32
  | 51 => 0xBDA22471#32
  | 52 => 0x3F3934EB#32
  | 53 => 0xBE9FB790#32
  | 54 => 0x3E859540#32
  | 55 => 0x3F88872E#32
  | 56 => 0x3F1EC2EC#32
  | 57 => 0x3F86DD4A#32
  | 58 => 0xBF5E8D6B#32
  | 59 => 0xBEA7F99C#32
  | 60 => 0x405FCDD8#32
  | 61 => 0x3FBEB03A#32
  | 62 => 0x3FCEF850#32
  | 63 => 0x3F714CEC#32
  | 64 => 0xBF900499#32
  | 65 => 0xBF8C1EB2#32
  | 66 => 0x4021C8B1#32
  | 67 => 0x3F32B155#32
  | 68 => 0xBFAD8BA6#32
  | 69 => 0x40826726#32
  | 70 => 0x3F43C6EB#32
  | 71 => 0xBFA3CF23#32
  | 72 => 0x3E4A5167#32
  | 73 => 0xBF71E725#32
  | 74 => 0x40067B02#32
  | 75 => 0xBECD5863#32
  | 76 => 0xBCAD955B#32
  | 77 => 0xBE4AA0F6#32
  | 78 => 0xBE228917#32
  | 79 => 0x402DD331#32
  | 80 => 0x3EB3DD9A#32
  | 81 => 0x40034FF9#32
  | 82 => 0xBDB6DB69#32
  | 83 => 0xBFA4730A#32
  | 84 => 0x3FF96BD2#32
  | 85 => 0x3F84135D#32
  | 86 => 0x3F9DA9D1#32
  | 87 => 0xBF8D628D#32
  | 88 => 0xBFAC9F86#32
  | 89 => 0xBF01E1D6#32
  | 90 => 0xBF00CD65#32
  | 91 => 0xBE96757A#32
  | 92 => 0xBFAEE2A1#32
  | 93 => 0x3F041B32#32
  | 94 => 0xBDFFC440#32
  | 95 => 0x408F7FC8#32
  | 96 => 0xBF392B11#32
  | 97 => 0xBE3DACD0#32
  | 98 => 0x4019628A#32
  | 99 => 0xBF65A0D2#32
  | 100 => 0xBDA4DD92#32
  | 101 => 0xBEFC9989#32
  | 102 => 0x3F5E4FED#32
  | 103 => 0xBF2BC962#32
  | 104 => 0x3F06AC03#32
  | 105 => 0xBF02F59D#32
  | 106 => 0x3FC759CC#32
  | 107 => 0xBE1AB6CC#32
  | 108 => 0xBF2EB08C#32
  | 109 => 0x40145B51#32
  | 110 => 0x3E95604B#32
  | 111 => 0xBE84F4A8#32
  | 112 => 0xBC8B1351#32
  | 113 => 0x3EF69D8E#32
  | 114 => 0x40B248F9#32
  | 115 => 0x3F62DE53#32
  | 116 => 0x402D2275#32
  | 117 => 0x3F1D7588#32
  | 118 => 0x3F3338D9#32
  | 119 => 0x4045575D#32
  | 120 => 0xBE815D2E#32
  | 121 => 0xBEDB5857#32
  | 122 => 0xBF62CDFC#32
  | 123 => 0xBF360A26#32
  | 124 => 0x3FBBA7F6#32
  | 125 => 0x3FEF1435#32
  | 126 => 0xBF9D224C#32
  | 127 => 0xBF2484E3#32
  | _ => 0#32

noncomputable abbrev lit0t0_750 (i : Nat) : BitVec 32 := match i % 128 with
  | 0 => 0x3D54DB4A#32
  | 1 => 0x3FC2C74D#32
  | 2 => 0x3E3B97F5#32
  | 3 => 0x40178972#32
  | 4 => 0x3F026694#32
  | 5 => 0x3F18D989#32
  | 6 => 0x3FA54A7F#32
  | 7 => 0x3F43403B#32
  | 8 => 0x3D570BAE#32
  | 9 => 0x40157585#32
  | 10 => 0xBEB593F1#32
  | 11 => 0xBEF4EC6A#32
  | 12 => 0x3EC87C20#32
  | 13 => 0x3EDE2436#32
  | 14 => 0x3F4E3D76#32
  | 15 => 0x3C6FC472#32
  | 16 => 0xBF4A6B54#32
  | 17 => 0x3D37A064#32
  | 18 => 0xBF4F6CFD#32
  | 19 => 0x3B68413C#32
  | 20 => 0xBF7D33AD#32
  | 21 => 0x3E99FAB7#32
  | 22 => 0x3F929DB5#32
  | 23 => 0x3E105E25#32
  | 24 => 0xBB9036A4#32
  | 25 => 0x4006CEE2#32
  | 26 => 0xBC3CB9AB#32
  | 27 => 0x3E98E863#32
  | 28 => 0x40357939#32
  | 29 => 0xBE5FA129#32
  | 30 => 0x40612D25#32
  | 31 => 0x3FFFAE85#32
  | 32 => 0x3DA23137#32
  | 33 => 0x3EB7E5E3#32
  | 34 => 0xBF2E509A#32
  | 35 => 0x3F0EDA05#32
  | 36 => 0x3F856CE8#32
  | 37 => 0xBF078753#32
  | 38 => 0xBE8C5A55#32
  | 39 => 0xBED594A9#32
  | 40 => 0x3D39F967#32
  | 41 => 0x3EB73CB1#32
  | 42 => 0x3F94919B#32
  | 43 => 0x3FBDE618#32
  | 44 => 0xBEAC3ECF#32
  | 45 => 0xBFB39064#32
  | 46 => 0x3ED3D1F7#32
  | 47 => 0xBF25EBF8#32
  | 48 => 0xBE20867C#32
  | 49 => 0x406E409D#32
  | 50 => 0x4028A98D#32
  | 51 => 0x3F0A1B17#32
  | 52 => 0x3F681220#32
  | 53 => 0x3DBDF1AC#32
  | 54 => 0xBF6F8AE3#32
  | 55 => 0x3FAAC717#32
  | 56 => 0x3FF80981#32
  | 57 => 0x3D90F9A9#32
  | 58 => 0xBEF64BC1#32
  | 59 => 0x3FC3AB84#32
  | 60 => 0xBEDE0568#32
  | 61 => 0x3DE5563F#32
  | 62 => 0x3FF6B41F#32
  | 63 => 0x406262C4#32
  | 64 => 0x3F3EC148#32
  | 65 => 0x3F7D3232#32
  | 66 => 0x3EED6253#32
  | 67 => 0x3F1F7434#32
  | 68 => 0x3FDA7F12#32
  | 69 => 0xBF3790E1#32
  | 70 => 0x3F54F4C7#32
  | 71 => 0x3DE1EF24#32
  | 72 => 0xBF214AC6#32
  | 73 => 0x3EE15418#32
  | 74 => 0x3FD76CF6#32
  | 75 => 0x3FC3C978#32
  | 76 => 0x3FEB5F6A#32
  | 77 => 0x3F2A115F#32
  | 78 => 0x3E99F6C7#32
  | 79 => 0xBEDCDC67#32
  | 80 => 0x3F34BE9F#32
  | 81 => 0xBF611E45#32
  | 82 => 0x3F22CCE9#32
  | 83 => 0x40444D94#32
  | 84 => 0x3EFFE1DC#32
  | 85 => 0xBF3A5E93#32
  | 86 => 0x3EA12F26#32
  | 87 => 0x3F86D024#32
  | 88 => 0xBF6B16DD#32
  | 89 => 0xBF0D52EE#32
  | 90 => 0x3F261AD1#32
  | 91 => 0x3E120F57#32
  | 92 => 0x3F1BB62D#32
  | 93 => 0x3F9DE0D2#32
  | 94 => 0x3F824756#32
  | 95 => 0x408AD058#32
  | 96 => 0xBED2C25C#32
  | 97 => 0x40432143#32
  | 98 => 0x3E2962B0#32
  | 99 => 0x3D10C6CC#32
  | 100 => 0xBE2D291B#32
  | 101 => 0x3EE9ED53#32
  | 102 => 0x40023BFF#32
  | 103 => 0x3FE30284#32
  | 104 => 0x3F1015AE#32
  | 105 => 0x3EC629D3#32
  | 106 => 0x401966D8#32
  | 107 => 0x3F9875A6#32
  | 108 => 0x3ED71351#32
  | 109 => 0xBD8D7E49#32
  | 110 => 0x3F5DDB16#32
  | 111 => 0x3F8D07C7#32
  | 112 => 0x3F74679C#32
  | 113 => 0xBF1BF324#32
  | 114 => 0xBE9B1E37#32
  | 115 => 0x404F2A01#32
  | 116 => 0x3F4B8D12#32
  | 117 => 0x400FF230#32
  | 118 => 0x4019134D#32
  | 119 => 0x4094F525#32
  | 120 => 0x400827C7#32
  | 121 => 0x3FAEF2BC#32
  | 122 => 0x3E6EBD1A#32
  | 123 => 0xBEFCBD05#32
  | 124 => 0x3ED8EE84#32
  | 125 => 0x3F395D71#32
  | 126 => 0xBEE8D8B4#32
  | 127 => 0x40AD5F7D#32
  | _ => 0#32

noncomputable abbrev lit0t0_751 (i : Nat) : BitVec 32 := match i % 128 with
  | 0 => 0xBE625DC6#32
  | 1 => 0xBE8DC7BE#32
  | 2 => 0xBD57ED87#32
  | 3 => 0x40199BB2#32
  | 4 => 0xBF84B577#32
  | 5 => 0x3F3C6AED#32
  | 6 => 0xBEC42CE1#32
  | 7 => 0xBEFD776A#32
  | 8 => 0x3E8355E4#32
  | 9 => 0x3E1FD519#32
  | 10 => 0xBF52931D#32
  | 11 => 0x40242A72#32
  | 12 => 0x3F64B57A#32
  | 13 => 0x3FEDD1EF#32
  | 14 => 0x3D1E16BD#32
  | 15 => 0x3E1092F9#32
  | 16 => 0xBE8CFB36#32
  | 17 => 0x405A1267#32
  | 18 => 0x40113A07#32
  | 19 => 0xBD1A63EB#32
  | 20 => 0x3F189561#32
  | 21 => 0x3E9BC0D9#32
  | 22 => 0x402D9BB8#32
  | 23 => 0x3D94F4DC#32
  | 24 => 0x3E9D66B9#32
  | 25 => 0xBDB02C76#32
  | 26 => 0xBFA88554#32
  | 27 => 0x3E3AA892#32
  | 28 => 0x3F931782#32
  | 29 => 0x3F9A726A#32
  | 30 => 0x3FA3B518#32
  | 31 => 0xBF4EA68D#32
  | 32 => 0xBD275A7C#32
  | 33 => 0x4001C086#32
  | 34 => 0x403055C6#32
  | 35 => 0x4053336E#32
  | 36 => 0x3EBE6CDC#32
  | 37 => 0x3FBD6E1C#32
  | 38 => 0x3E3E3DE4#32
  | 39 => 0xBE906218#32
  | 40 => 0x3F21BD9E#32
  | 41 => 0xBD860086#32
  | 42 => 0xBF5F9D4E#32
  | 43 => 0x3F5617A5#32
  | 44 => 0x3F075E4A#32
  | 45 => 0xBCDC1000#32
  | 46 => 0x3FCFCB94#32
  | 47 => 0x3FD8C4FE#32
  | 48 => 0x40279FFE#32
  | 49 => 0xBD92C0AE#32
  | 50 => 0xBF2F94B6#32
  | 51 => 0x3F3AFCBF#32
  | 52 => 0x3FB8D02B#32
  | 53 => 0x3F0191B0#32
  | 54 => 0x40321361#32
  | 55 => 0x3FB9ED13#32
  | 56 => 0xBF043F05#32
  | 57 => 0x3CDFD606#32
  | 58 => 0x3F2E18F5#32
  | 59 => 0x3EEDF78E#32
  | 60 => 0xBE1C486E#32
  | 61 => 0xBCBEAD7A#32
  | 62 => 0x3E83122E#32
  | 63 => 0x3FED1CB7#32
  | 64 => 0x401270CA#32
  | 65 => 0x3EC7489B#32
  | 66 => 0x40158B19#32
  | 67 => 0x40DCA8A9#32
  | 68 => 0x3F3BA1EB#32
  | 69 => 0x3DCD9EC9#32
  | 70 => 0xBFA1D342#32
  | 71 => 0x3F0C0492#32
  | 72 => 0xBDED9002#32
  | 73 => 0x3F8405FF#32
  | 74 => 0xBD97347D#32
  | 75 => 0xBF037E3F#32
  | 76 => 0x3F39A652#32
  | 77 => 0xBF07F439#32
  | 78 => 0xBF397D64#32
  | 79 => 0x3E4CEB33#32
  | 80 => 0x3FB88844#32
  | 81 => 0x3EF75F13#32
  | 82 => 0x40849985#32
  | 83 => 0xBEC84921#32
  | 84 => 0x403EDA39#32
  | 85 => 0x3E69833B#32
  | 86 => 0x4008A6DC#32
  | 87 => 0xBDCCF090#32
  | 88 => 0x3D4B239D#32
  | 89 => 0xBF53136A#32
  | 90 => 0x3DA414B3#32
  | 91 => 0x3EC893C3#32
  | 92 => 0x404373F7#32
  | 93 => 0x3F4CE3D3#32
  | 94 => 0xBF2A58B7#32
  | 95 => 0xBF83113E#32
  | 96 => 0xBEC9923F#32
  | 97 => 0x4002482A#32
  | 98 => 0xBFC50607#32
  | 99 => 0x40631964#32
  | 100 => 0x4001375C#32
  | 101 => 0x3FC02692#32
  | 102 => 0x4019242E#32
  | 103 => 0xBD78270E#32
  | 104 => 0xBF346726#32
  | 105 => 0x3F98DC60#32
  | 106 => 0x3F67B40C#32
  | 107 => 0x3EF1CD26#32
  | 108 => 0x4014CB72#32
  | 109 => 0x401D433C#32
  | 110 => 0x3EA12E7D#32
  | 111 => 0x401CF136#32
  | 112 => 0x3F700A7C#32
  | 113 => 0x3F3819F6#32
  | 114 => 0xBE422DC4#32
  | 115 => 0xBF002966#32
  | 116 => 0xBF901EBD#32
  | 117 => 0x403CC4FB#32
  | 118 => 0x3DF24F8D#32
  | 119 => 0xBE1F10C9#32
  | 120 => 0x4062D29F#32
  | 121 => 0xBF3F1961#32
  | 122 => 0x3FBB1EED#32
  | 123 => 0xBF6DF582#32
  | 124 => 0xBEDE2419#32
  | 125 => 0x3F890912#32
  | 126 => 0x3F30986B#32
  | 127 => 0xBF64337A#32
  | _ => 0#32

noncomputable abbrev lit0t0_752 (i : Nat) : BitVec 32 := match i % 128 with
  | 0 => 0x3F2302B0#32
  | 1 => 0x3F4ED879#32
  | 2 => 0xBF0F2BF3#32
  | 3 => 0x3E5CCB38#32
  | 4 => 0x3FD9988E#32
  | 5 => 0xBF4E1AA6#32
  | 6 => 0xBF7E72AC#32
  | 7 => 0x408D7141#32
  | 8 => 0xBF4FA6EC#32
  | 9 => 0x3FC6524F#32
  | 10 => 0x3F38F5A6#32
  | 11 => 0x3E5C9B08#32
  | 12 => 0x3F613F50#32
  | 13 => 0xBE9B2AA2#32
  | 14 => 0x3E9E8585#32
  | 15 => 0x3EF86284#32
  | 16 => 0xBE1BA0A9#32
  | 17 => 0x3EDDE6DB#32
  | 18 => 0x3FD24697#32
  | 19 => 0xBF94604E#32
  | 20 => 0xBFC94552#32
  | 21 => 0x3EBBCB28#32
  | 22 => 0xBEE67F9F#32
  | 23 => 0x3E54CDD7#32
  | 24 => 0x3F8F3022#32
  | 25 => 0xBF0B4423#32
  | 26 => 0x3EF8B4EA#32
  | 27 => 0x3D883195#32
  | 28 => 0x3FC014F1#32
  | 29 => 0x3F9A7D2C#32
  | 30 => 0x3FC2B430#32
  | 31 => 0x3FBD394B#32
  | 32 => 0x3FCA6DC2#32
  | 33 => 0xBF8A4196#32
  | 34 => 0xBEB23D29#32
  | 35 => 0x3EC69526#32
  | 36 => 0x3F2CFFB6#32
  | 37 => 0x3F9F78DE#32
  | 38 => 0x4093D32E#32
  | 39 => 0xBF2CE10F#32
  | 40 => 0x3ED65594#32
  | 41 => 0xBFCA383B#32
  | 42 => 0x3E89DE8F#32
  | 43 => 0xBEDB9425#32
  | 44 => 0x3F23F894#32
  | 45 => 0x3EECB2C0#32
  | 46 => 0x3F082434#32
  | 47 => 0xBDDCE295#32
  | 48 => 0x3F27BE89#32
  | 49 => 0x4043D4C4#32
  | 50 => 0xBF8398CD#32
  | 51 => 0x3EC90CCB#32
  | 52 => 0x400FEDBA#32
  | 53 => 0xBED97DDE#32
  | 54 => 0x3E995F03#32
  | 55 => 0x3FFF11C7#32
  | 56 => 0xBFA315FD#32
  | 57 => 0xBF85DA3E#32
  | 58 => 0x3F330C93#32
  | 59 => 0x3FB82E3B#32
  | 60 => 0x3AA1C38B#32
  | 61 => 0x3EB98124#32
  | 62 => 0xBF7483ED#32
  | 63 => 0xBE710099#32
  | 64 => 0x3FC24692#32
  | 65 => 0x3FC8173B#32
  | 66 => 0xBE41D7C4#32
  | 67 => 0x3F3D5377#32
  | 68 => 0x400A492E#32
  | 69 => 0x3F212450#32
  | 70 => 0xBE02865F#32
  | 71 => 0xBF51A32C#32
  | 72 => 0xBF068EA0#32
  | 73 => 0xBE9CB4E7#32
  | 74 => 0xBE9B94AB#32
  | 75 => 0x3EDBB684#32
  | 76 => 0xBF69BB30#32
  | 77 => 0x3C03B972#32
  | 78 => 0xBEEF1AB0#32
  | 79 => 0xBEC69D25#32
  | 80 => 0x3E409996#32
  | 81 => 0x40101B78#32
  | 82 => 0x3E9EA6EE#32
  | 83 => 0x3F9E0FBC#32
  | 84 => 0xBEF1E86E#32
  | 85 => 0x3F8DE04E#32
  | 86 => 0x3FC3726C#32
  | 87 => 0xBE24E27C#32
  | 88 => 0xBF2BA8AF#32
  | 89 => 0xBF03D115#32
  | 90 => 0x3FDA104B#32
  | 91 => 0xBF650ABD#32
  | 92 => 0x4002602C#32
  | 93 => 0x3FD7EB55#32
  | 94 => 0x3F70F028#32
  | 95 => 0xBFB1CF24#32
  | 96 => 0xBEAE3436#32
  | 97 => 0xBF3E9679#32
  | 98 => 0x3F37C522#32
  | 99 => 0x3EFAE7AC#32
  | 100 => 0xBF5967D7#32
  | 101 => 0xBDD3B2A2#32
  | 102 => 0xBF85AEE6#32
  | 103 => 0x3F603E94#32
  | 104 => 0xBDB849DC#32
  | 105 => 0xBE1A09D1#32
  | 106 => 0xBEC878D5#32
  | 107 => 0x3F756A55#32
  | 108 => 0x40156496#32
  | 109 => 0x3EBE579F#32
  | 110 => 0xBD0C9E52#32
  | 111 => 0xBEA4DB7B#32
  | 112 => 0x407B5DBD#32
  | 113 => 0x4021590E#32
  | 114 => 0xBF001C1E#32
  | 115 => 0x3ED1FC08#32
  | 116 => 0xBF802338#32
  | 117 => 0x3F670076#32
  | 118 => 0xBF40AEC0#32
  | 119 => 0x3E87E7BD#32
  | 120 => 0x3FA4701D#32
  | 121 => 0xBF67B078#32
  | 122 => 0x3F946956#32
  | 123 => 0xBEA2B459#32
  | 124 => 0xBE3EF013#32
  | 125 => 0x3E17884C#32
  | 126 => 0xBFC09EBA#32
  | 127 => 0x3F4AD2FF#32
  | _ => 0#32

noncomputable abbrev lit0t0_753 (i : Nat) : BitVec 32 := match i % 128 with
  | 0 => 0x3F05C7CF#32
  | 1 => 0xBFB11DD7#32
  | 2 => 0x3FFC0383#32
  | 3 => 0x3E9B2463#32
  | 4 => 0x404123BD#32
  | 5 => 0x3FD1641A#32
  | 6 => 0x4008A635#32
  | 7 => 0x3FA70370#32
  | 8 => 0x3D322A90#32
  | 9 => 0x3F9B2170#32
  | 10 => 0x3F04D79B#32
  | 11 => 0x403038E5#32
  | 12 => 0xBFA6D975#32
  | 13 => 0xBF350D77#32
  | 14 => 0x3F88EC05#32
  | 15 => 0x3F5227E4#32
  | 16 => 0xBF468F0D#32
  | 17 => 0xBD99036C#32
  | 18 => 0x3F62DFBA#32
  | 19 => 0xBE518E1C#32
  | 20 => 0xBF10FB97#32
  | 21 => 0x3DBEB80F#32
  | 22 => 0xBEED1302#32
  | 23 => 0x3EBB21EE#32
  | 24 => 0x3FE4210E#32
  | 25 => 0x3FC5C220#32
  | 26 => 0x3F470AD3#32
  | 27 => 0x3DD3ABCA#32
  | 28 => 0x4009C02B#32
  | 29 => 0xBFA12545#32
  | 30 => 0xBB7B20AB#32
  | 31 => 0x400CEF36#32
  | 32 => 0x3F9EB647#32
  | 33 => 0x400EE12B#32
  | 34 => 0x3F73E1EE#32
  | 35 => 0x3F855D6F#32
  | 36 => 0xBF377AAC#32
  | 37 => 0x4002A099#32
  | 38 => 0xBE07134F#32
  | 39 => 0x3E2E69DA#32
  | 40 => 0x3FEB0354#32
  | 41 => 0x3FA8B5F3#32
  | 42 => 0xBF0A4C95#32
  | 43 => 0x40043EF2#32
  | 44 => 0x3EF31FC1#32
  | 45 => 0x4104E35E#32
  | 46 => 0xBE7A3D7D#32
  | 47 => 0xBF7D4060#32
  | 48 => 0xBCE8E46E#32
  | 49 => 0xBE05805E#32
  | 50 => 0x3E104F24#32
  | 51 => 0xBF8F84AA#32
  | 52 => 0x3C9C182E#32
  | 53 => 0x3F1F458A#32
  | 54 => 0x3EEFD282#32
  | 55 => 0xBF16558D#32
  | 56 => 0x3DAB5615#32
  | 57 => 0xBEC86317#32
  | 58 => 0x3E936626#32
  | 59 => 0x3F901984#32
  | 60 => 0x3F328DF5#32
  | 61 => 0x3EFB0A51#32
  | 62 => 0xBF469BCE#32
  | 63 => 0xBE015108#32
  | 64 => 0xBF2D8A14#32
  | 65 => 0xBF84BBCF#32
  | 66 => 0xBF9687CE#32
  | 67 => 0xBFA4772B#32
  | 68 => 0x3F448E2B#32
  | 69 => 0x3F55F6D6#32
  | 70 => 0xBEC0BA50#32
  | 71 => 0x403D1B8C#32
  | 72 => 0x3EB904FA#32
  | 73 => 0xBDE4AA67#32
  | 74 => 0x3FBA3EBC#32
  | 75 => 0x3F0DF246#32
  | 76 => 0xBF533843#32
  | 77 => 0xBF6F3323#32
  | 78 => 0x3F1BC004#32
  | 79 => 0x3E9A7B03#32
  | 80 => 0xBF1B168B#32
  | 81 => 0x3FB25FEA#32
  | 82 => 0xBECEFBAC#32
  | 83 => 0x3EB02B31#32
  | 84 => 0xBF04E2AA#32
  | 85 => 0x3E4D859D#32
  | 86 => 0x3F834438#32
  | 87 => 0x3EAD877C#32
  | 88 => 0xBF01F872#32
  | 89 => 0xBF34D65B#32
  | 90 => 0xBEBF68C1#32
  | 91 => 0x3F64C1DD#32
  | 92 => 0x3E571288#32
  | 93 => 0xBF133A70#32
  | 94 => 0x408B0C16#32
  | 95 => 0xBED37696#32
  | 96 => 0x3F57CC33#32
  | 97 => 0x3ED5CE02#32
  | 98 => 0x3DF41AD2#32
  | 99 => 0x3F530CB7#32
  | 100 => 0x3FAF6317#32
  | 101 => 0xBF089D46#32
  | 102 => 0x3F88CF32#32
  | 103 => 0xBDDFD95F#32
  | 104 => 0x3F810B1E#32
  | 105 => 0x3F8831ED#32
  | 106 => 0x405B0DE1#32
  | 107 => 0x3EF18D20#32
  | 108 => 0x401BCE82#32
  | 109 => 0x3F9E34D8#32
  | 110 => 0x3FAFDB2E#32
  | 111 => 0xBFB777A4#32
  | 112 => 0x3E85C39E#32
  | 113 => 0xBF3B3110#32
  | 114 => 0xBEBDEAF6#32
  | 115 => 0x3E9E46F3#32
  | 116 => 0x3F62E24C#32
  | 117 => 0xBCF6EB38#32
  | 118 => 0xBF2FC23C#32
  | 119 => 0x4070E535#32
  | 120 => 0x3E9C3D3D#32
  | 121 => 0x3E01AF77#32
  | 122 => 0x3F83DDF2#32
  | 123 => 0x3F9A1150#32
  | 124 => 0x40208539#32
  | 125 => 0xBF0DC610#32
  | 126 => 0xBF8D4BF6#32
  | 127 => 0xBF8E58BD#32
  | _ => 0#32

noncomputable abbrev lit0t0_754 (i : Nat) : BitVec 32 := match i % 128 with
  | 0 => 0xBEE3DFF8#32
  | 1 => 0x3E44F1AF#32
  | 2 => 0x3FF1DD9E#32
  | 3 => 0xBEF89D76#32
  | 4 => 0x3F80C90A#32
  | 5 => 0x404C83D5#32
  | 6 => 0x40062DA4#32
  | 7 => 0x3F15382E#32
  | 8 => 0x3FF36C88#32
  | 9 => 0xBECF1160#32
  | 10 => 0xBE2656FF#32
  | 11 => 0xBDC8EC68#32
  | 12 => 0x3F95A0D4#32
  | 13 => 0x3E164F2F#32
  | 14 => 0xBE58B645#32
  | 15 => 0xBF11C8A5#32
  | 16 => 0x4098C910#32
  | 17 => 0x3FF5E2EB#32
  | 18 => 0x40156ED4#32
  | 19 => 0x40A368A8#32
  | 20 => 0x3E91900E#32
  | 21 => 0x3FE99D9A#32
  | 22 => 0x3F1A11C6#32
  | 23 => 0x40294F38#32
  | 24 => 0x3FEFA3E1#32
  | 25 => 0xBD853279#32
  | 26 => 0x3FC0D5B2#32
  | 27 => 0xBF8A5592#32
  | 28 => 0xBE198B8F#32
  | 29 => 0xBE6818C5#32
  | 30 => 0x3FA25C6F#32
  | 31 => 0x3DF293CB#32
  | 32 => 0xBF1960F2#32
  | 33 => 0xBF84EC24#32
  | 34 => 0x3D809E88#32
  | 35 => 0x3FA3C41E#32
  | 36 => 0x3F53A7F2#32
  | 37 => 0x3F630255#32
  | 38 => 0xBE84D72C#32
  | 39 => 0x3EBCA15F#32
  | 40 => 0xBE82E09B#32
  | 41 => 0xBF010784#32
  | 42 => 0xBF768A58#32
  | 43 => 0x3FEAF607#32
  | 44 => 0x3E14BF0A#32
  | 45 => 0x3EB04912#32
  | 46 => 0xBD123A27#32
  | 47 => 0xBFD200B4#32
  | 48 => 0xBEE2BF91#32
  | 49 => 0x3FCA86CC#32
  | 50 => 0xBCC4A666#32
  | 51 => 0xBE19DC6E#32
  | 52 => 0x400E317E#32
  | 53 => 0x3EFB13D2#32
  | 54 => 0x3E8294BD#32
  | 55 => 0xBDB4E225#32
  | 56 => 0x4040FCDD#32
  | 57 => 0x405FBBC7#32
  | 58 => 0xBDDE40FC#32
  | 59 => 0x40006F0B#32
  | 60 => 0x3F189515#32
  | 61 => 0x3F916C21#32
  | 62 => 0xBCC50CE8#32
  | 63 => 0x3FD4747F#32
  | 64 => 0x3CD762CD#32
  | 65 => 0x3F23C819#32
  | 66 => 0xBD95A174#32
  | 67 => 0x40198640#32
  | 68 => 0xBF5B832C#32
  | 69 => 0x3F539C8D#32
  | 70 => 0xBCEF524D#32
  | 71 => 0x3F0D3BE0#32
  | 72 => 0x40425849#32
  | 73 => 0x3F2EE5E6#32
  | 74 => 0x3FBF1C75#32
  | 75 => 0x3F8A7F02#32
  | 76 => 0xBF598A04#32
  | 77 => 0x3F0379B3#32
  | 78 => 0x3F02D87A#32
  | 79 => 0x3F1B9CD2#32
  | 80 => 0xBEC01297#32
  | 81 => 0xBF6618CA#32
  | 82 => 0x3F8B865D#32
  | 83 => 0x4028A681#32
  | 84 => 0xBECE7765#32
  | 85 => 0xBE715197#32
  | 86 => 0xBEC3256E#32
  | 87 => 0xBC7B2C19#32
  | 88 => 0xBFAD619B#32
  | 89 => 0x3FB1C789#32
  | 90 => 0xBEE7B970#32
  | 91 => 0xBE3C4396#32
  | 92 => 0x3DC36119#32
  | 93 => 0xBEB5785A#32
  | 94 => 0x3F24E0A2#32
  | 95 => 0xBF12B53D#32
  | 96 => 0x3D309DAD#32
  | 97 => 0xBF271BF8#32
  | 98 => 0xBEDD3037#32
  | 99 => 0xBF82914E#32
  | 100 => 0xBF0B340A#32
  | 101 => 0x3E1DD98B#32
  | 102 => 0xBFB10BC3#32
  | 103 => 0x3ED59964#32
  | 104 => 0x3EB74743#32
  | 105 => 0xBF32CA16#32
  | 106 => 0x3E8ECB02#32
  | 107 => 0x3E47D37D#32
  | 108 => 0x3FFC6270#32
  | 109 => 0x3F209952#32
  | 110 => 0x3FB9AFD5#32
  | 111 => 0x3FC438FB#32
  | 112 => 0xBFB345EB#32
  | 113 => 0xBF38D60F#32
  | 114 => 0x3F4FD74C#32
  | 115 => 0x403574A3#32
  | 116 => 0x3F8E133F#32
  | 117 => 0xBE3D1107#32
  | 118 => 0x3FF51E06#32
  | 119 => 0x3F3B064E#32
  | 120 => 0x3FC07E67#32
  | 121 => 0xBF85720E#32
  | 122 => 0x3F2D70C0#32
  | 123 => 0x3F56EF32#32
  | 124 => 0x3FFE2829#32
  | 125 => 0x3FCAD7D0#32
  | 126 => 0x4016BF82#32
  | 127 => 0x3EFFF0A5#32
  | _ => 0#32

noncomputable abbrev lit0t0_755 (i : Nat) : BitVec 32 := match i % 128 with
  | 0 => 0xBED9105E#32
  | 1 => 0x4086237A#32
  | 2 => 0x3F98F7E6#32
  | 3 => 0x3F2C9D85#32
  | 4 => 0x3F3630F3#32
  | 5 => 0x401488ED#32
  | 6 => 0xBF3782BE#32
  | 7 => 0xBFBD6F7B#32
  | 8 => 0x400E70AF#32
  | 9 => 0x3FD71CBE#32
  | 10 => 0xBEFF2C86#32
  | 11 => 0xBE97F2A6#32
  | 12 => 0x3F998BB0#32
  | 13 => 0x4099B12E#32
  | 14 => 0xBF52A883#32
  | 15 => 0xBE86664F#32
  | 16 => 0x3FB3419A#32
  | 17 => 0x401DA14A#32
  | 18 => 0x3FA775A8#32
  | 19 => 0x4013FC43#32
  | 20 => 0xBF0AAB74#32
  | 21 => 0x3F45781B#32
  | 22 => 0x3DF96A39#32
  | 23 => 0x3F08A966#32
  | 24 => 0xBDE01EC9#32
  | 25 => 0x3FFDCBC6#32
  | 26 => 0x401BB039#32
  | 27 => 0x40017012#32
  | 28 => 0x3E8FE4C6#32
  | 29 => 0x4083181B#32
  | 30 => 0x3F5AEFBD#32
  | 31 => 0x3E87B170#32
  | 32 => 0x3E479DE1#32
  | 33 => 0xBFAF4424#32
  | 34 => 0xBEB1DBC6#32
  | 35 => 0x3F3E40FA#32
  | 36 => 0x3E32B334#32
  | 37 => 0x3F8BCB06#32
  | 38 => 0xBE125560#32
  | 39 => 0x3F07EEF8#32
  | 40 => 0x3F0E86A0#32
  | 41 => 0xBE793B72#32
  | 42 => 0x3EEDE643#32
  | 43 => 0xBECF06E0#32
  | 44 => 0x3F4D5323#32
  | 45 => 0x400B687F#32
  | 46 => 0xBFAA8D5F#32
  | 47 => 0x3F47175F#32
  | 48 => 0x401B316B#32
  | 49 => 0x400BC0ED#32
  | 50 => 0xBF703026#32
  | 51 => 0x3F67CE5D#32
  | 52 => 0xBC0E9633#32
  | 53 => 0xBEC8E66C#32
  | 54 => 0xBEAC1737#32
  | 55 => 0x405BBFB6#32
  | 56 => 0xBF7D9112#32
  | 57 => 0xBFAF5786#32
  | 58 => 0x3F95F9CD#32
  | 59 => 0xBEF5FD85#32
  | 60 => 0xBEA1ACE8#32
  | 61 => 0xBF155847#32
  | 62 => 0x3E88675E#32
  | 63 => 0xBF7213F7#32
  | 64 => 0x401ECBC1#32
  | 65 => 0x3F9A459F#32
  | 66 => 0xBF1D4097#32
  | 67 => 0xBFCEB8BC#32
  | 68 => 0x4004B9F7#32
  | 69 => 0x3F22CA9C#32
  | 70 => 0x3FAE98C9#32
  | 71 => 0xBEC8DC15#32
  | 72 => 0x3E06DC37#32
  | 73 => 0x3E30B941#32
  | 74 => 0x3D10AC93#32
  | 75 => 0x3F72AFD1#32
  | 76 => 0xBE5B4931#32
  | 77 => 0x3FA7ECE4#32
  | 78 => 0xBF643DCA#32
  | 79 => 0x3EFDAC5D#32
  | 80 => 0x3F80CBC4#32
  | 81 => 0x3FE740A6#32
  | 82 => 0x3F9BEA5C#32
  | 83 => 0xBE63721B#32
  | 84 => 0x3F685E04#32
  | 85 => 0xBF933242#32
  | 86 => 0xBEB400AF#32
  | 87 => 0x3FCE4CB1#32
  | 88 => 0x3EF111B2#32
  | 89 => 0x3F4791A6#32
  | 90 => 0xBDD79FCA#32
  | 91 => 0x40136655#32
  | 92 => 0x3F6D61A4#32
  | 93 => 0x3FE81DD2#32
  | 94 => 0x3E1888B4#32
  | 95 => 0x3E533352#32
  | 96 => 0xBFC5CF54#32
  | 97 => 0xBF21655B#32
  | 98 => 0x3F236200#32
  | 99 => 0xBF99F618#32
  | 100 => 0x3F54AD50#32
  | 101 => 0x3DBD896B#32
  | 102 => 0xBE45CC45#32
  | 103 => 0xBFAEC8BB#32
  | 104 => 0xBCD56928#32
  | 105 => 0x3FBFF049#32
  | 106 => 0x3F08AE6E#32
  | 107 => 0x3F573F68#32
  | 108 => 0x3FA07CA3#32
  | 109 => 0x3E2D5831#32
  | 110 => 0x4006833E#32
  | 111 => 0x3F23AB88#32
  | 112 => 0xBED4C2AD#32
  | 113 => 0x4033EF3D#32
  | 114 => 0x3E3E5B43#32
  | 115 => 0x3F9D8AA4#32
  | 116 => 0xBF685A47#32
  | 117 => 0x3D1F1579#32
  | 118 => 0x400EDFCA#32
  | 119 => 0xBD7C267A#32
  | 120 => 0xBF80949E#32
  | 121 => 0xBF6CC756#32
  | 122 => 0xBE36AC64#32
  | 123 => 0xBF2FED4A#32
  | 124 => 0xBE256CB4#32
  | 125 => 0xBF066995#32
  | 126 => 0x400C8A97#32
  | 127 => 0x3FAE9172#32
  | _ => 0#32

noncomputable abbrev lit0t0_756 (i : Nat) : BitVec 32 := match i % 128 with
  | 0 => 0x3ED4C7D3#32
  | 1 => 0x3FD539EE#32
  | 2 => 0xBE81471B#32
  | 3 => 0x3E16FA0F#32
  | 4 => 0xBF5999B6#32
  | 5 => 0xBF4B85E6#32
  | 6 => 0x3E14318D#32
  | 7 => 0x3E63330B#32
  | 8 => 0x3F0A39DE#32
  | 9 => 0x3FE59072#32
  | 10 => 0xBE0A4654#32
  | 11 => 0xBF40B974#32
  | 12 => 0xBF1A3B11#32
  | 13 => 0x405FB8CA#32
  | 14 => 0x3C975A3C#32
  | 15 => 0xBF089F7F#32
  | 16 => 0x3FC1410E#32
  | 17 => 0xBF64D2C0#32
  | 18 => 0x3F6CA37B#32
  | 19 => 0x3EBA3B75#32
  | 20 => 0xBF212FA1#32
  | 21 => 0x40325685#32
  | 22 => 0x3FA13F48#32
  | 23 => 0xBE934B77#32
  | 24 => 0x40146971#32
  | 25 => 0x3EBCA628#32
  | 26 => 0xBF37C3EC#32
  | 27 => 0xBEA17CEB#32
  | 28 => 0xBF91646E#32
  | 29 => 0xBC244280#32
  | 30 => 0xBE1A10C7#32
  | 31 => 0xBDF47369#32
  | 32 => 0xBF2E0DFF#32
  | 33 => 0x3DDD5088#32
  | 34 => 0x3EE625BA#32
  | 35 => 0x3FB3DA76#32
  | 36 => 0x3FCAD6C8#32
  | 37 => 0x3F4219BE#32
  | 38 => 0x3E4456F7#32
  | 39 => 0xBF53B0E0#32
  | 40 => 0x3E7A12A1#32
  | 41 => 0xBEEB825A#32
  | 42 => 0x3F73272C#32
  | 43 => 0x3F89F852#32
  | 44 => 0x3E2B584A#32
  | 45 => 0x40148462#32
  | 46 => 0x3FA05E7E#32
  | 47 => 0xBE34F418#32
  | 48 => 0x3F6F62B2#32
  | 49 => 0xBF02074F#32
  | 50 => 0x3F9E7FA2#32
  | 51 => 0xBF029EDE#32
  | 52 => 0xBE11115A#32
  | 53 => 0x4002B9DF#32
  | 54 => 0x3F894635#32
  | 55 => 0x3EA0F703#32
  | 56 => 0x3E14DBF3#32
  | 57 => 0x3FA695E1#32
  | 58 => 0x3F0DD191#32
  | 59 => 0x3FBD6B23#32
  | 60 => 0xBC3A3989#32
  | 61 => 0x3FE5DD13#32
  | 62 => 0xBEC1633C#32
  | 63 => 0xBF01A635#32
  | 64 => 0x3F8EA9A0#32
  | 65 => 0xBF5105FD#32
  | 66 => 0x3F9E844C#32
  | 67 => 0xBD8CA444#32
  | 68 => 0x3FE6403E#32
  | 69 => 0x3E820750#32
  | 70 => 0xBF542EBC#32
  | 71 => 0x402839C8#32
  | 72 => 0x3EB974AA#32
  | 73 => 0x3F753FB4#32
  | 74 => 0x3F6E6587#32
  | 75 => 0x3F68BBC6#32
  | 76 => 0x3F993C39#32
  | 77 => 0x405A3EC4#32
  | 78 => 0xBF1CAD2E#32
  | 79 => 0x3F57777C#32
  | 80 => 0x3F200524#32
  | 81 => 0xBE85942B#32
  | 82 => 0xBF34638D#32
  | 83 => 0xBF9077AC#32
  | 84 => 0xBF54D074#32
  | 85 => 0x400BEF4B#32
  | 86 => 0x3EF782D9#32
  | 87 => 0xBF297DF2#32
  | 88 => 0x3D9F8927#32
  | 89 => 0xBF47C199#32
  | 90 => 0x3FFA4AD3#32
  | 91 => 0x401F907F#32
  | 92 => 0x3F039162#32
  | 93 => 0xBF20928E#32
  | 94 => 0x3ED9532C#32
  | 95 => 0x3FF974DD#32
  | 96 => 0x3EBB49C6#32
  | 97 => 0x3FB8808C#32
  | 98 => 0x3F558976#32
  | 99 => 0x3EEE177E#32
  | 100 => 0x403384F3#32
  | 101 => 0x3F6E6558#32
  | 102 => 0x3EA06502#32
  | 103 => 0xBF4B50B0#32
  | 104 => 0x402A11C4#32
  | 105 => 0x3CBC8866#32
  | 106 => 0xBEFC706C#32
  | 107 => 0xBF1FB609#32
  | 108 => 0x3F25F1EE#32
  | 109 => 0xBEB0F7BA#32
  | 110 => 0xBEAAD5A0#32
  | 111 => 0xBF72E47E#32
  | 112 => 0x3F9F6C5C#32
  | 113 => 0xBE03AF26#32
  | 114 => 0x3EDBD188#32
  | 115 => 0x3E9ADB7A#32
  | 116 => 0x3E917D5E#32
  | 117 => 0xBE2B949B#32
  | 118 => 0xBD15EE5F#32
  | 119 => 0x3F5A45F7#32
  | 120 => 0xBD8C5D6C#32
  | 121 => 0x3F95365E#32
  | 122 => 0xBF65F4D1#32
  | 123 => 0x3FDE86B0#32
  | 124 => 0xBE9CBA72#32
  | 125 => 0x3F383E5B#32
  | 126 => 0xBF92660C#32
  | 127 => 0xBDB413E5#32
  | _ => 0#32

noncomputable abbrev lit0t0_757 (i : Nat) : BitVec 32 := match i % 128 with
  | 0 => 0xBF3EFAE2#32
  | 1 => 0x3FAE7C52#32
  | 2 => 0x3F366F02#32
  | 3 => 0x3E5DA83E#32
  | 4 => 0xBCF3F48A#32
  | 5 => 0xBE143F62#32
  | 6 => 0x404422DC#32
  | 7 => 0x3F441905#32
  | 8 => 0x3F401706#32
  | 9 => 0xBFC1731A#32
  | 10 => 0x3F195062#32
  | 11 => 0xBF898A80#32
  | 12 => 0x3EB70F46#32
  | 13 => 0xBF534A60#32
  | 14 => 0xBFC9D0E9#32
  | 15 => 0x4017B312#32
  | 16 => 0x40E729C3#32
  | 17 => 0x3E434548#32
  | 18 => 0x3FC956AE#32
  | 19 => 0x3F73C08A#32
  | 20 => 0x3F63260A#32
  | 21 => 0x3EAE4B3F#32
  | 22 => 0xBF59B9BE#32
  | 23 => 0x3F8DEF30#32
  | 24 => 0xBF33D4A8#32
  | 25 => 0xBF6F404A#32
  | 26 => 0xBD846791#32
  | 27 => 0xBF403435#32
  | 28 => 0x401D8D7A#32
  | 29 => 0x3ECF9A72#32
  | 30 => 0x40296A36#32
  | 31 => 0x3FC7309E#32
  | 32 => 0xBF09CE7C#32
  | 33 => 0x3FD3657A#32
  | 34 => 0xBC43A641#32
  | 35 => 0x4034D027#32
  | 36 => 0xBE59A9DE#32
  | 37 => 0x3F928A66#32
  | 38 => 0x3FD76E8E#32
  | 39 => 0x40BE3C65#32
  | 40 => 0x3FCCED56#32
  | 41 => 0x3F8A2988#32
  | 42 => 0x3FF3E27A#32
  | 43 => 0x3F163D1E#32
  | 44 => 0x3FB1C05C#32
  | 45 => 0x40513C71#32
  | 46 => 0x400BAE0D#32
  | 47 => 0x3FB2FFF4#32
  | 48 => 0x3F74BDE6#32
  | 49 => 0x3F34F1F2#32
  | 50 => 0x40574158#32
  | 51 => 0x408E8892#32
  | 52 => 0xBD0A52CC#32
  | 53 => 0xBEDC96B8#32
  | 54 => 0x3F57CDA7#32
  | 55 => 0x4086E01A#32
  | 56 => 0x3E5A4094#32
  | 57 => 0xBE701949#32
  | 58 => 0xBFA1704D#32
  | 59 => 0xBF20C536#32
  | 60 => 0x3FA111B4#32
  | 61 => 0x3E6CAE5B#32
  | 62 => 0xBFA6EC3B#32
  | 63 => 0xBDC4D175#32
  | 64 => 0xBF57E1F8#32
  | 65 => 0x3D8E9930#32
  | 66 => 0xBF2084E1#32
  | 67 => 0x3F38B2C8#32
  | 68 => 0x3E877167#32
  | 69 => 0x3F8BE93D#32
  | 70 => 0xBE3A0F64#32
  | 71 => 0x3F03C4D2#32
  | 72 => 0x3F5C9F34#32
  | 73 => 0xBF7745E2#32
  | 74 => 0x4011154E#32
  | 75 => 0x4089CBD8#32
  | 76 => 0x3EE5544F#32
  | 77 => 0xBFAE1160#32
  | 78 => 0xBFACD088#32
  | 79 => 0x3FEC7433#32
  | 80 => 0xBEF18169#32
  | 81 => 0x3FC69B39#32
  | 82 => 0x400920A8#32
  | 83 => 0x3F5186A5#32
  | 84 => 0xBF09AA80#32
  | 85 => 0xBF5613EC#32
  | 86 => 0x3E9DC90E#32
  | 87 => 0x3FEAF1E4#32
  | 88 => 0x3FE1290C#32
  | 89 => 0x3EEE2C18#32
  | 90 => 0xBEC70ECE#32
  | 91 => 0x4007654D#32
  | 92 => 0x402246DA#32
  | 93 => 0x3F012A1E#32
  | 94 => 0xBE9B2A7E#32
  | 95 => 0x3F40E35E#32
  | 96 => 0x400AD422#32
  | 97 => 0x3F881D3B#32
  | 98 => 0x3FAA665D#32
  | 99 => 0x3F93DCAC#32
  | 100 => 0x3F8F783E#32
  | 101 => 0xBF8F9263#32
  | 102 => 0x3F9BB4E3#32
  | 103 => 0x3F4B8100#32
  | 104 => 0xBF088A7E#32
  | 105 => 0x3FD45AF7#32
  | 106 => 0x3F04E58E#32
  | 107 => 0x3F22A9C3#32
  | 108 => 0x40843903#32
  | 109 => 0x3FCC3B2E#32
  | 110 => 0x3E16B432#32
  | 111 => 0x3F8CA575#32
  | 112 => 0x3F61C5C2#32
  | 113 => 0xBE1A96E7#32
  | 114 => 0x40229B55#32
  | 115 => 0xBF2D360D#32
  | 116 => 0xBE43FFCD#32
  | 117 => 0x3F0104D2#32
  | 118 => 0xBEF20DE1#32
  | 119 => 0x3F6B5457#32
  | 120 => 0xBDF710DF#32
  | 121 => 0x4016F379#32
  | 122 => 0x3EE619F2#32
  | 123 => 0x3D8A7556#32
  | 124 => 0x3EDF6B21#32
  | 125 => 0x4061ED67#32
  | 126 => 0x3F9FB87E#32
  | 127 => 0x3F917FE0#32
  | _ => 0#32

noncomputable abbrev lit0t0_758 (i : Nat) : BitVec 32 := match i % 128 with
  | 0 => 0x3F438B30#32
  | 1 => 0xBF9413D2#32
  | 2 => 0x3F1D5F09#32
  | 3 => 0x4064E7EC#32
  | 4 => 0x3EF83BDA#32
  | 5 => 0x3F1B145D#32
  | 6 => 0x3F557E62#32
  | 7 => 0xBF95CFEA#32
  | 8 => 0xBF612528#32
  | 9 => 0xBF183EDF#32
  | 10 => 0xBF7E5337#32
  | 11 => 0x3FB2B6F7#32
  | 12 => 0xBE432B54#32
  | 13 => 0xBF247CCC#32
  | 14 => 0x3E8563C7#32
  | 15 => 0x3F8594C5#32
  | 16 => 0x3E3910D9#32
  | 17 => 0x3FE9655C#32
  | 18 => 0x40932C17#32
  | 19 => 0x3EA341EA#32
  | 20 => 0x3FC0181E#32
  | 21 => 0x3CF633B3#32
  | 22 => 0xBF39CE6B#32
  | 23 => 0x3E7E0B59#32
  | 24 => 0xBF220918#32
  | 25 => 0x3FA693FE#32
  | 26 => 0x3F6919B3#32
  | 27 => 0x40841DDA#32
  | 28 => 0xBEF7FF34#32
  | 29 => 0xBBABF54B#32
  | 30 => 0x4015FE6D#32
  | 31 => 0x3FE2BC23#32
  | 32 => 0x4002B0B7#32
  | 33 => 0x3F4B907E#32
  | 34 => 0x3F800D9D#32
  | 35 => 0xBC4B2838#32
  | 36 => 0x402259D6#32
  | 37 => 0x3F6AF80E#32
  | 38 => 0xBF2CAED8#32
  | 39 => 0xBE82B91E#32
  | 40 => 0x3F41B48D#32
  | 41 => 0x400F4C78#32
  | 42 => 0xBE57708B#32
  | 43 => 0x3D7F37F4#32
  | 44 => 0x3F63A874#32
  | 45 => 0x404F76A8#32
  | 46 => 0x3F20FEFF#32
  | 47 => 0xBF622496#32
  | 48 => 0x3F86FBAF#32
  | 49 => 0xBEF68C18#32
  | 50 => 0x3F69F9EC#32
  | 51 => 0xBE3C63C0#32
  | 52 => 0x3F24F990#32
  | 53 => 0xBF0AF816#32
  | 54 => 0x3DC51C6B#32
  | 55 => 0x3F6DB4C3#32
  | 56 => 0xBF2F1D27#32
  | 57 => 0xBF250CAB#32
  | 58 => 0xBF80C924#32
  | 59 => 0x41038700#32
  | 60 => 0xBAAD4EA8#32
  | 61 => 0x3E2D2024#32
  | 62 => 0xBF635D00#32
  | 63 => 0x3FE8CE41#32
  | 64 => 0x3FD2FCC3#32
  | 65 => 0xBF798FAA#32
  | 66 => 0xBF72841A#32
  | 67 => 0x3EAD7DEA#32
  | 68 => 0x3E831511#32
  | 69 => 0x3FA487CD#32
  | 70 => 0xBF83FB50#32
  | 71 => 0xBD6F701E#32
  | 72 => 0xBF74D67E#32
  | 73 => 0x3FA39BE0#32
  | 74 => 0xBD44D063#32
  | 75 => 0x4056468A#32
  | 76 => 0x3FA0CF35#32
  | 77 => 0xBFA125D5#32
  | 78 => 0x3F3B2FAA#32
  | 79 => 0xBE003C38#32
  | 80 => 0x3FD70622#32
  | 81 => 0x3F856A2E#32
  | 82 => 0x3F4382F4#32
  | 83 => 0xBF199D26#32
  | 84 => 0x3F86A559#32
  | 85 => 0xBFB7C4B7#32
  | 86 => 0xBE9646DE#32
  | 87 => 0xBDE980F6#32
  | 88 => 0x3ED3BE60#32
  | 89 => 0xBF3F772F#32
  | 90 => 0x3F2A72C9#32
  | 91 => 0x40171CA9#32
  | 92 => 0xBE1B2F97#32
  | 93 => 0x3D98D081#32
  | 94 => 0x3FD487DA#32
  | 95 => 0xBD1632D0#32
  | 96 => 0x3F9E1809#32
  | 97 => 0x3EC9081F#32
  | 98 => 0x4023A9FE#32
  | 99 => 0x3F0BE24F#32
  | 100 => 0xBEF14E6F#32
  | 101 => 0x3EB292AC#32
  | 102 => 0xBF90F9D6#32
  | 103 => 0x3F2BF6EB#32
  | 104 => 0xBF913B42#32
  | 105 => 0xBF76E754#32
  | 106 => 0x3F195267#32
  | 107 => 0xBF384198#32
  | 108 => 0xBF4A5A5F#32
  | 109 => 0xBF18EC1D#32
  | 110 => 0x403EA548#32
  | 111 => 0x3ED980C2#32
  | 112 => 0xBEE84460#32
  | 113 => 0x3FC3BAEA#32
  | 114 => 0x3DCB1176#32
  | 115 => 0xBEF39124#32
  | 116 => 0xBBAA9C19#32
  | 117 => 0x3E249EF4#32
  | 118 => 0xBFA8CFD6#32
  | 119 => 0xBF2D7B18#32
  | 120 => 0xBF426363#32
  | 121 => 0xBEE4BBB6#32
  | 122 => 0x3FEBC7E6#32
  | 123 => 0x3FFC08CA#32
  | 124 => 0x3E915933#32
  | 125 => 0x3E29E07D#32
  | 126 => 0xBF8A692C#32
  | 127 => 0x3F8DF62C#32
  | _ => 0#32

noncomputable abbrev lit0t0_759 (i : Nat) : BitVec 32 := match i % 128 with
  | 0 => 0xBEB35C10#32
  | 1 => 0xBEE3689E#32
  | 2 => 0xBC390786#32
  | 3 => 0x40296B92#32
  | 4 => 0x3FCD6942#32
  | 5 => 0x4068B98A#32
  | 6 => 0x3EEE9DB2#32
  | 7 => 0xBF80ACD1#32
  | 8 => 0x3F523A4F#32
  | 9 => 0x3F1B51C8#32
  | 10 => 0xBE55A7F0#32
  | 11 => 0x3FEE852E#32
  | 12 => 0xBE40C1F4#32
  | 13 => 0xBF43C774#32
  | 14 => 0x3D015754#32
  | 15 => 0x4080A161#32
  | 16 => 0x3F263707#32
  | 17 => 0x40073C72#32
  | 18 => 0x3F68B932#32
  | 19 => 0x3F10C604#32
  | 20 => 0x3FE0C686#32
  | 21 => 0xBF32C5E8#32
  | 22 => 0x3F6A2FB4#32
  | 23 => 0x3E1A13A7#32
  | 24 => 0x3F0843DC#32
  | 25 => 0x3C6A3A96#32
  | 26 => 0x401179C7#32
  | 27 => 0xBE5DECAE#32
  | 28 => 0x3EFC12E6#32
  | 29 => 0xBFC981D6#32
  | 30 => 0x3FF335B7#32
  | 31 => 0xBE5AD0C3#32
  | 32 => 0xBEEBFDF6#32
  | 33 => 0x3EAB39D5#32
  | 34 => 0xBFB07810#32
  | 35 => 0x40430196#32
  | 36 => 0xBE053A1C#32
  | 37 => 0x3F9E3A4A#32
  | 38 => 0x4007B667#32
  | 39 => 0x3F7EEF19#32
  | 40 => 0xBE9474BA#32
  | 41 => 0xBED489A1#32
  | 42 => 0x3E00CA0C#32
  | 43 => 0xBFA1EA7C#32
  | 44 => 0xBF824EB2#32
  | 45 => 0x3E83B6EC#32
  | 46 => 0x3E4320D0#32
  | 47 => 0x3F260EE3#32
  | 48 => 0x3FD2CDA8#32
  | 49 => 0x3F90ACEA#32
  | 50 => 0xBF7E69BF#32
  | 51 => 0x4019D2F9#32
  | 52 => 0x3FD30445#32
  | 53 => 0x3F11A18F#32
  | 54 => 0x3E550064#32
  | 55 => 0x3FF677E1#32
  | 56 => 0x3E62CC25#32
  | 57 => 0x3E75388F#32
  | 58 => 0x3F7A8E82#32
  | 59 => 0x3EB85AAE#32
  | 60 => 0x3FCD529D#32
  | 61 => 0xBF7BF2AA#32
  | 62 => 0x3F2D36BD#32
  | 63 => 0xBD8C988A#32
  | 64 => 0x3B5917F3#32
  | 65 => 0x3F906476#32
  | 66 => 0xBE87D116#32
  | 67 => 0x407C1BAE#32
  | 68 => 0x3FE6A95B#32
  | 69 => 0x3EFAAD8E#32
  | 70 => 0x3EFBC304#32
  | 71 => 0x3FB4A328#32
  | 72 => 0xBFA54897#32
  | 73 => 0x3F7215A1#32
  | 74 => 0x3F790494#32
  | 75 => 0x3F319463#32
  | 76 => 0xBE6B7134#32
  | 77 => 0xBF4CB648#32
  | 78 => 0x4033897A#32
  | 79 => 0xBE584780#32
  | 80 => 0xBED5B2AB#32
  | 81 => 0x3F2491CE#32
  | 82 => 0xBF9316F5#32
  | 83 => 0xBE8D2EC0#32
  | 84 => 0xBFA1F115#32
  | 85 => 0xBF4EC3C7#32
  | 86 => 0x3FC0A2C4#32
  | 87 => 0x3F8ED202#32
  | 88 => 0x3DCE205D#32
  | 89 => 0xBCF69651#32
  | 90 => 0xBEE290CF#32
  | 91 => 0x408BB898#32
  | 92 => 0xBF076ABA#32
  | 93 => 0x3FA62E74#32
  | 94 => 0x3E111907#32
  | 95 => 0xBF29180B#32
  | 96 => 0xBEDDC75B#32
  | 97 => 0x3F272EE9#32
  | 98 => 0xBD29C614#32
  | 99 => 0xBEE01222#32
  | 100 => 0xBF00C024#32
  | 101 => 0x3F9C426A#32
  | 102 => 0x402C02F0#32
  | 103 => 0xBEED8ED6#32
  | 104 => 0xBF334859#32
  | 105 => 0x403EE59E#32
  | 106 => 0x3FA4FC21#32
  | 107 => 0x3F308B4C#32
  | 108 => 0x3FEC27AA#32
  | 109 => 0xBECD4CF9#32
  | 110 => 0x4075343C#32
  | 111 => 0xBF5730EF#32
  | 112 => 0xBED02F2F#32
  | 113 => 0xBE7C273D#32
  | 114 => 0xBF32AD24#32
  | 115 => 0x4036BB94#32
  | 116 => 0xBFB1E8D3#32
  | 117 => 0xBD011870#32
  | 118 => 0x3EA6888E#32
  | 119 => 0xBF9082CC#32
  | 120 => 0xBEB175EA#32
  | 121 => 0xBFAC83D0#32
  | 122 => 0x3E87F45F#32
  | 123 => 0x3FA01AE6#32
  | 124 => 0x400CF102#32
  | 125 => 0x404F625C#32
  | 126 => 0x3F83D31C#32
  | 127 => 0x3FA54ECC#32
  | _ => 0#32

noncomputable abbrev lit0t0_760 (i : Nat) : BitVec 32 := match i % 128 with
  | 0 => 0xBF4489A2#32
  | 1 => 0x3FDFCB9E#32
  | 2 => 0x3F88143B#32
  | 3 => 0xBDC0C435#32
  | 4 => 0x3E5FA0F2#32
  | 5 => 0xBF14CA67#32
  | 6 => 0xBFED876C#32
  | 7 => 0x3F69D22E#32
  | 8 => 0x3F27FD29#32
  | 9 => 0xBF785C8C#32
  | 10 => 0x3F0EC764#32
  | 11 => 0xBF96752C#32
  | 12 => 0x3F519D39#32
  | 13 => 0xBE0A37A4#32
  | 14 => 0x3FD3D19C#32
  | 15 => 0xBE7C47A0#32
  | 16 => 0xBF3A9F7C#32
  | 17 => 0x3FF23776#32
  | 18 => 0xBF52AC86#32
  | 19 => 0x3F696AA8#32
  | 20 => 0x4020D8BE#32
  | 21 => 0xBF61AF37#32
  | 22 => 0x3FC3CD02#32
  | 23 => 0xBF64F027#32
  | 24 => 0x3DE0F3EC#32
  | 25 => 0x3E591C50#32
  | 26 => 0xBEAC2B44#32
  | 27 => 0x3EDC4B02#32
  | 28 => 0xBF39ABB5#32
  | 29 => 0xBE9468D0#32
  | 30 => 0x3F40B347#32
  | 31 => 0x405A0F1D#32
  | 32 => 0xBE0C7D8E#32
  | 33 => 0xBF7154F5#32
  | 34 => 0x3EAA8BB3#32
  | 35 => 0x3FDB6CE5#32
  | 36 => 0x3EFC7516#32
  | 37 => 0x40380AEA#32
  | 38 => 0x3F90A0A2#32
  | 39 => 0x3D330428#32
  | 40 => 0x40061C72#32
  | 41 => 0xBF4F3C09#32
  | 42 => 0xBE820E6F#32
  | 43 => 0xBF0AEDA7#32
  | 44 => 0x40415FAF#32
  | 45 => 0xBF8AA3EA#32
  | 46 => 0xBBC3B01E#32
  | 47 => 0x4011414C#32
  | 48 => 0x3E6686E2#32
  | 49 => 0x3FFEDE64#32
  | 50 => 0xBFAB4372#32
  | 51 => 0x3E02F622#32
  | 52 => 0x3FE3F993#32
  | 53 => 0x3DE45741#32
  | 54 => 0x3FCE94C4#32
  | 55 => 0xBE3B2928#32
  | 56 => 0x3F0879FB#32
  | 57 => 0x3F3D7278#32
  | 58 => 0x4056FE6D#32
  | 59 => 0x40155FD0#32
  | 60 => 0xBF6E6AC8#32
  | 61 => 0x3E8853AB#32
  | 62 => 0xBEB9C7EF#32
  | 63 => 0x3F9E61F4#32
  | 64 => 0x3F34E30F#32
  | 65 => 0x3F1A4587#32
  | 66 => 0x3EF0DD01#32
  | 67 => 0x3F0F9323#32
  | 68 => 0x3F177BA8#32
  | 69 => 0xBE4C31AF#32
  | 70 => 0x3FE78FC2#32
  | 71 => 0x404E362F#32
  | 72 => 0x3F517CED#32
  | 73 => 0x40971A91#32
  | 74 => 0x3D8186E1#32
  | 75 => 0x400C803C#32
  | 76 => 0x3FEB0D4D#32
  | 77 => 0x4029D307#32
  | 78 => 0x3EC7AA9A#32
  | 79 => 0x3EC32F67#32
  | 80 => 0xBEBE4570#32
  | 81 => 0xBED91E0A#32
  | 82 => 0x3E659CF3#32
  | 83 => 0xBF9EEADF#32
  | 84 => 0x4023FDB8#32
  | 85 => 0xBED99C56#32
  | 86 => 0x3FB60B8D#32
  | 87 => 0x3F83AB66#32
  | 88 => 0x3EEC44A0#32
  | 89 => 0x3F24A8DB#32
  | 90 => 0xBFAFA41C#32
  | 91 => 0x40578F24#32
  | 92 => 0x3FFD0CAE#32
  | 93 => 0x402911EE#32
  | 94 => 0x3EDF2E78#32
  | 95 => 0x3FB3F166#32
  | 96 => 0x3E550233#32
  | 97 => 0xBF416DED#32
  | 98 => 0x3F5FB0B2#32
  | 99 => 0xBF2921A3#32
  | 100 => 0xBF19D7CE#32
  | 101 => 0x3FBDCE8C#32
  | 102 => 0xBF881A70#32
  | 103 => 0x3EDDD674#32
  | 104 => 0xBEC43695#32
  | 105 => 0x400AA0F2#32
  | 106 => 0x400C38FD#32
  | 107 => 0xBFAD9423#32
  | 108 => 0x3E6927C8#32
  | 109 => 0x3E345825#32
  | 110 => 0x3EE9EA44#32
  | 111 => 0x3F2FE6D2#32
  | 112 => 0xBF27D0C3#32
  | 113 => 0xBE11C013#32
  | 114 => 0xBDFAA268#32
  | 115 => 0xBDBA6A75#32
  | 116 => 0x3FAF9E66#32
  | 117 => 0xBFB56CDD#32
  | 118 => 0xBDAC2D00#32
  | 119 => 0x3FD0FD86#32
  | 120 => 0x3FBAEFB1#32
  | 121 => 0x3E6A22C0#32
  | 122 => 0x3E972FF0#32
  | 123 => 0xBF9D5F69#32
  | 124 => 0x3FB17B46#32
  | 125 => 0x3FBC4D3A#32
  | 126 => 0x3F828BB8#32
  | 127 => 0xBEDF653C#32
  | _ => 0#32

noncomputable abbrev lit0t0_761 (i : Nat) : BitVec 32 := match i % 128 with
  | 0 => 0xBF44AA54#32
  | 1 => 0x3FBF75B9#32
  | 2 => 0x3F848484#32
  | 3 => 0x3EEDEBCE#32
  | 4 => 0x4050036E#32
  | 5 => 0x3E2C464E#32
  | 6 => 0x3F8959E0#32
  | 7 => 0x3F0C749C#32
  | 8 => 0xBF5F3000#32
  | 9 => 0x4081A7CC#32
  | 10 => 0xBF3D0DC3#32
  | 11 => 0x3DF655DA#32
  | 12 => 0xBFB53C21#32
  | 13 => 0xBDFF2579#32
  | 14 => 0x3E70FC2D#32
  | 15 => 0x40060257#32
  | 16 => 0x3D8631F6#32
  | 17 => 0x3EC61572#32
  | 18 => 0x3F25D988#32
  | 19 => 0x3FC9B7E3#32
  | 20 => 0x3F871386#32
  | 21 => 0x4040EF66#32
  | 22 => 0x3FB49FE8#32
  | 23 => 0x3F111AC9#32
  | 24 => 0x404CA8A5#32
  | 25 => 0x40216F8E#32
  | 26 => 0x4003E0F1#32
  | 27 => 0x3FB735FC#32
  | 28 => 0xBF48BBE2#32
  | 29 => 0xBFC1B80E#32
  | 30 => 0xBF840614#32
  | 31 => 0xBF8799BC#32
  | 32 => 0x3FD758FE#32
  | 33 => 0x3E9B42FE#32
  | 34 => 0x3FAF3CE3#32
  | 35 => 0xBF4F8180#32
  | 36 => 0xBFBD3069#32
  | 37 => 0x40006D2E#32
  | 38 => 0x3FBCDCA6#32
  | 39 => 0xBEAD0975#32
  | 40 => 0x3F812DA7#32
  | 41 => 0x3EBD562D#32
  | 42 => 0x3F12E5A1#32
  | 43 => 0xBD70F521#32
  | 44 => 0x3FF22EBA#32
  | 45 => 0xBF302426#32
  | 46 => 0x3F47B6B6#32
  | 47 => 0xBF24BC2D#32
  | 48 => 0x3FA4B777#32
  | 49 => 0x3FBC2EAD#32
  | 50 => 0xBF82FBD7#32
  | 51 => 0xBF6A5420#32
  | 52 => 0xBEC1F998#32
  | 53 => 0x3F67CEC4#32
  | 54 => 0x3F9E2117#32
  | 55 => 0x3E66A8A1#32
  | 56 => 0xBF11F488#32
  | 57 => 0x3F9F568E#32
  | 58 => 0x3FB15590#32
  | 59 => 0x3FE6DEBC#32
  | 60 => 0xBE5563AC#32
  | 61 => 0x3F983236#32
  | 62 => 0x3F1CF16A#32
  | 63 => 0x3E8FB0D1#32
  | 64 => 0x3F89FC99#32
  | 65 => 0xBD5BF693#32
  | 66 => 0x3EA4BF4E#32
  | 67 => 0x3FE3F1F9#32
  | 68 => 0xBECAEFBD#32
  | 69 => 0x3FB85E2C#32
  | 70 => 0xBEC43ED9#32
  | 71 => 0xBFE872EA#32
  | 72 => 0x3E7E81B3#32
  | 73 => 0xBDB3581E#32
  | 74 => 0xBF06042C#32
  | 75 => 0x3FD791D0#32
  | 76 => 0xBF1E5702#32
  | 77 => 0xBEB41424#32
  | 78 => 0xBE65E075#32
  | 79 => 0x402E9D2B#32
  | 80 => 0xBEBDF24D#32
  | 81 => 0xBFA61583#32
  | 82 => 0xBFB833AF#32
  | 83 => 0xBEA6542F#32
  | 84 => 0x3F9584A2#32
  | 85 => 0xBF9D7A2C#32
  | 86 => 0x3F783219#32
  | 87 => 0xBEF615F2#32
  | 88 => 0xBF9BBB59#32
  | 89 => 0x3F80D59C#32
  | 90 => 0x3FA9C281#32
  | 91 => 0x3F63BFD2#32
  | 92 => 0xBD287F97#32
  | 93 => 0x40532A95#32
  | 94 => 0xBF370996#32
  | 95 => 0xBF41EEFA#32
  | 96 => 0xBFA87465#32
  | 97 => 0x3EFC85A1#32
  | 98 => 0xBE16BFC8#32
  | 99 => 0xBFD86A30#32
  | 100 => 0xBF07A2A7#32
  | 101 => 0x3FD14389#32
  | 102 => 0xBF8AE024#32
  | 103 => 0x3F8087E5#32
  | 104 => 0x3F65B7A8#32
  | 105 => 0x403FFBD6#32
  | 106 => 0x3F11DE19#32
  | 107 => 0x405D217C#32
  | 108 => 0x3F0F01CC#32
  | 109 => 0xBF0402EB#32
  | 110 => 0xBFCBD6FD#32
  | 111 => 0x3E95167C#32
  | 112 => 0xBCC33AB4#32
  | 113 => 0xBFBD7C25#32
  | 114 => 0x40333BDA#32
  | 115 => 0xBEAEE963#32
  | 116 => 0x3CDA6CA0#32
  | 117 => 0x3F60D534#32
  | 118 => 0xBF8040CE#32
  | 119 => 0x406BE0A8#32
  | 120 => 0xBE0C4962#32
  | 121 => 0x3F86C50D#32
  | 122 => 0x3FA31BA6#32
  | 123 => 0x4004DF83#32
  | 124 => 0x3F15E73D#32
  | 125 => 0x3F02722C#32
  | 126 => 0xBEB03D08#32
  | 127 => 0x3DEB7376#32
  | _ => 0#32

noncomputable abbrev lit0t0_762 (i : Nat) : BitVec 32 := match i % 128 with
  | 0 => 0xBF36C1B2#32
  | 1 => 0x40AAAB50#32
  | 2 => 0x3FB263E3#32
  | 3 => 0xBDEF254C#32
  | 4 => 0x4016FF83#32
  | 5 => 0xBF01B846#32
  | 6 => 0x3FC6226F#32
  | 7 => 0xBF5F7BB6#32
  | 8 => 0xBE8C8442#32
  | 9 => 0x3FE650EE#32
  | 10 => 0xBEE8AE5E#32
  | 11 => 0x3EC1AC3F#32
  | 12 => 0x3F0EFABC#32
  | 13 => 0xBF086241#32
  | 14 => 0x3F0EA05B#32
  | 15 => 0x3F8AD161#32
  | 16 => 0x3FC624FB#32
  | 17 => 0xBEC9B0F9#32
  | 18 => 0x3ECE5D4E#32
  | 19 => 0x3FA8ACAE#32
  | 20 => 0x3F027D0F#32
  | 21 => 0xBEF08423#32
  | 22 => 0x3E04392E#32
  | 23 => 0xBF3656D5#32
  | 24 => 0x3D87C784#32
  | 25 => 0x40008770#32
  | 26 => 0x3FAEB4A8#32
  | 27 => 0x3F4BDFE1#32
  | 28 => 0x3F8E78DA#32
  | 29 => 0x3FB97FEF#32
  | 30 => 0x3FF76568#32
  | 31 => 0x3FE497DA#32
  | 32 => 0x3ECFDA00#32
  | 33 => 0xBEBD89E1#32
  | 34 => 0x3E86EFDB#32
  | 35 => 0xBF78DA8E#32
  | 36 => 0xBECD1573#32
  | 37 => 0x3E2D72CA#32
  | 38 => 0xBE858B36#32
  | 39 => 0xBF3F2840#32
  | 40 => 0x3DF592A2#32
  | 41 => 0xBECB8E44#32
  | 42 => 0xBFBFBF37#32
  | 43 => 0x3F5DA6C0#32
  | 44 => 0x3FD30BA1#32
  | 45 => 0xBF1A46CA#32
  | 46 => 0x3E5A0A04#32
  | 47 => 0x3DF7CC86#32
  | 48 => 0x3F86FC4A#32
  | 49 => 0x3ED86354#32
  | 50 => 0x3FAB8BE4#32
  | 51 => 0xBEF05886#32
  | 52 => 0x3F5F8174#32
  | 53 => 0x3E50E027#32
  | 54 => 0xBE18E0DB#32
  | 55 => 0x40141AC0#32
  | 56 => 0x40294E5C#32
  | 57 => 0x3FD3C413#32
  | 58 => 0x400E5B0F#32
  | 59 => 0x3EE13940#32
  | 60 => 0x3EF451C4#32
  | 61 => 0xBF59E624#32
  | 62 => 0x3DA74540#32
  | 63 => 0x3FA6B40F#32
  | 64 => 0x3F100B10#32
  | 65 => 0x40160429#32
  | 66 => 0x3EC25610#32
  | 67 => 0x3FAA81CC#32
  | 68 => 0xBF212AD8#32
  | 69 => 0x3F47730B#32
  | 70 => 0xBF02183A#32
  | 71 => 0x3FAFF126#32
  | 72 => 0x3FF5A29F#32
  | 73 => 0xBFE4FCE6#32
  | 74 => 0x3DDF4605#32
  | 75 => 0xBF6296D8#32
  | 76 => 0xBED5C5D5#32
  | 77 => 0xBE850061#32
  | 78 => 0x3F482A6F#32
  | 79 => 0x3F4629DE#32
  | 80 => 0x3F669730#32
  | 81 => 0x3F7FA58C#32
  | 82 => 0xBF37BD1D#32
  | 83 => 0xBE79BB1A#32
  | 84 => 0xBFA5BA4C#32
  | 85 => 0xBF1CBDED#32
  | 86 => 0x4028FE12#32
  | 87 => 0xBF658798#32
  | 88 => 0xBE40B45D#32
  | 89 => 0x408BED6A#32
  | 90 => 0x3E62FC1D#32
  | 91 => 0x4044F978#32
  | 92 => 0x3F2CB3E7#32
  | 93 => 0x409E6498#32
  | 94 => 0x3F455F2F#32
  | 95 => 0x3FF3ECA8#32
  | 96 => 0xBDFB4980#32
  | 97 => 0xBF742076#32
  | 98 => 0xBF29D47C#32
  | 99 => 0x3FDF0623#32
  | 100 => 0xBEDEA41E#32
  | 101 => 0xBF6A722C#32
  | 102 => 0xBE9A626C#32
  | 103 => 0xBF98CAA3#32
  | 104 => 0xBE6B3EF1#32
  | 105 => 0xBF3F7983#32
  | 106 => 0xBE70164B#32
  | 107 => 0x3F423462#32
  | 108 => 0xBE336FC7#32
  | 109 => 0xBE8E6FA1#32
  | 110 => 0xBFAF1DF0#32
  | 111 => 0x3FC1FB55#32
  | 112 => 0x3EDAE6E3#32
  | 113 => 0xBDFB5E10#32
  | 114 => 0xBE4B2100#32
  | 115 => 0x40488FC3#32
  | 116 => 0xBF228A67#32
  | 117 => 0x3F9D014E#32
  | 118 => 0x3C122FF7#32
  | 119 => 0x3E7CC7F8#32
  | 120 => 0x3F91F04F#32
  | 121 => 0xBEEF61F8#32
  | 122 => 0x404621FC#32
  | 123 => 0x3EF666F4#32
  | 124 => 0x3F1FDBB0#32
  | 125 => 0x3F92C320#32
  | 126 => 0x3F2CA194#32
  | 127 => 0xBF8B20D9#32
  | _ => 0#32

noncomputable abbrev lit0t0_763 (i : Nat) : BitVec 32 := match i % 128 with
  | 0 => 0xBF28A868#32
  | 1 => 0x401A1C4B#32
  | 2 => 0xBE4220C3#32
  | 3 => 0xBEE2D0CE#32
  | 4 => 0x3E5335AA#32
  | 5 => 0xBE770153#32
  | 6 => 0xBE1F8151#32
  | 7 => 0x3F344005#32
  | 8 => 0x3F744020#32
  | 9 => 0xBEE62FA6#32
  | 10 => 0xBF736858#32
  | 11 => 0xBF14EB5F#32
  | 12 => 0xBFAA265A#32
  | 13 => 0x3F8946FF#32
  | 14 => 0xBF9E3264#32
  | 15 => 0xBD7F5367#32
  | 16 => 0x406D438A#32
  | 17 => 0x3E693903#32
  | 18 => 0x3E35FF16#32
  | 19 => 0x3EA86EA5#32
  | 20 => 0x3FEB056D#32
  | 21 => 0x3F54C521#32
  | 22 => 0x3F8DBD0E#32
  | 23 => 0x3F5D05D2#32
  | 24 => 0xBE966DC4#32
  | 25 => 0x3FC860DA#32
  | 26 => 0x4040A30F#32
  | 27 => 0x3DC2DDDC#32
  | 28 => 0x3F16518C#32
  | 29 => 0x4044FF99#32
  | 30 => 0xBEBD2282#32
  | 31 => 0xBCC814A0#32
  | 32 => 0x4022A21E#32
  | 33 => 0x3E8F0C50#32
  | 34 => 0xBE61676C#32
  | 35 => 0xBE395956#32
  | 36 => 0xBF24DA62#32
  | 37 => 0xBCC375C7#32
  | 38 => 0xBDB64B49#32
  | 39 => 0xBEFB6ABC#32
  | 40 => 0xBE571579#32
  | 41 => 0x3F306551#32
  | 42 => 0x3F90B023#32
  | 43 => 0xBFAB3D26#32
  | 44 => 0x405DAEE1#32
  | 45 => 0x3FF107EC#32
  | 46 => 0x3F4022E2#32
  | 47 => 0x409EF2B6#32
  | 48 => 0xBE9A90C9#32
  | 49 => 0xBF9D2344#32
  | 50 => 0x3CCA0DB0#32
  | 51 => 0x3F3305D4#32
  | 52 => 0x3F7F167E#32
  | 53 => 0x3EFA51CF#32
  | 54 => 0xBF185847#32
  | 55 => 0x4025E64E#32
  | 56 => 0xBF056BB3#32
  | 57 => 0xBFC9A5AE#32
  | 58 => 0xBEC7D924#32
  | 59 => 0x3F62A570#32
  | 60 => 0xBE99DF9B#32
  | 61 => 0xBEB1B88A#32
  | 62 => 0x3D907BA8#32
  | 63 => 0xBF24A7CE#32
  | 64 => 0xBEBBC027#32
  | 65 => 0x3D235EC4#32
  | 66 => 0xBF6B642E#32
  | 67 => 0x3F77756C#32
  | 68 => 0x3F2FF676#32
  | 69 => 0xBF64031E#32
  | 70 => 0x40082622#32
  | 71 => 0x3FB1C6CA#32
  | 72 => 0xBE5A7131#32
  | 73 => 0x3F56E45C#32
  | 74 => 0xBF1C3277#32
  | 75 => 0xBFA82BC0#32
  | 76 => 0x3EE63DA5#32
  | 77 => 0x400E5CC0#32
  | 78 => 0x40065F74#32
  | 79 => 0x3FE5B051#32
  | 80 => 0x3E7CF77E#32
  | 81 => 0x3EEC1D87#32
  | 82 => 0xBF75FD1C#32
  | 83 => 0xBEA8BF49#32
  | 84 => 0x3F6ABE79#32
  | 85 => 0x3E417831#32
  | 86 => 0x3FE4F28D#32
  | 87 => 0xBF42720C#32
  | 88 => 0x3E9585DE#32
  | 89 => 0x3FD90D9A#32
  | 90 => 0x406E9008#32
  | 91 => 0xBE84AEC5#32
  | 92 => 0x3F1D9A3E#32
  | 93 => 0x3F3F7DD3#32
  | 94 => 0x3F816586#32
  | 95 => 0x402D85C8#32
  | 96 => 0x3FD28F48#32
  | 97 => 0xBDAB10E6#32
  | 98 => 0x406D79DC#32
  | 99 => 0x3FB471CB#32
  | 100 => 0x3F932818#32
  | 101 => 0x3EFCA87F#32
  | 102 => 0x4009F37E#32
  | 103 => 0x3B833D31#32
  | 104 => 0x3D4EAF48#32
  | 105 => 0x3F992DB5#32
  | 106 => 0x3D9C4306#32
  | 107 => 0x3EE419BC#32
  | 108 => 0xBCF675CF#32
  | 109 => 0x3FFC946C#32
  | 110 => 0x3FAB5DA8#32
  | 111 => 0x3FF8CF3C#32
  | 112 => 0x3F76DDED#32
  | 113 => 0xBF16B226#32
  | 114 => 0x3FB5BDB3#32
  | 115 => 0x3E9CEF3C#32
  | 116 => 0x3FDF77DC#32
  | 117 => 0xBDF0F248#32
  | 118 => 0xBF051ACE#32
  | 119 => 0x3F0BB238#32
  | 120 => 0x3DC6A6AB#32
  | 121 => 0xBF99E615#32
  | 122 => 0x40153176#32
  | 123 => 0xBF55F249#32
  | 124 => 0xBF452996#32
  | 125 => 0x408A1C88#32
  | 126 => 0x3F7656AB#32
  | 127 => 0x3FF228F8#32
  | _ => 0#32

noncomputable abbrev lit0t0_764 (i : Nat) : BitVec 32 := match i % 128 with
  | 0 => 0x3F9B6BB3#32
  | 1 => 0x3FDC01D2#32
  | 2 => 0x3F7B73A0#32
  | 3 => 0x3E695D5F#32
  | 4 => 0xBF948D1D#32
  | 5 => 0xBF12DB2A#32
  | 6 => 0x401CF0AB#32
  | 7 => 0xBE19C434#32
  | 8 => 0xBED43FCB#32
  | 9 => 0x3FFA6ABB#32
  | 10 => 0xBDBE4C3A#32
  | 11 => 0xBEBAD84B#32
  | 12 => 0xBEF6554C#32
  | 13 => 0xBF8938BA#32
  | 14 => 0xBF62D06D#32
  | 15 => 0xBF8076C4#32
  | 16 => 0x3F87EF1A#32
  | 17 => 0x4018F096#32
  | 18 => 0x3E98708C#32
  | 19 => 0xBEDAF496#32
  | 20 => 0x3F6836E4#32
  | 21 => 0x3EC1C7FC#32
  | 22 => 0xBF054BB6#32
  | 23 => 0xBFB5C7B1#32
  | 24 => 0x3EC0619B#32
  | 25 => 0x3DC78749#32
  | 26 => 0x3F8F2108#32
  | 27 => 0xBF4A4D95#32
  | 28 => 0x3E025D26#32
  | 29 => 0x40227792#32
  | 30 => 0x3EB14372#32
  | 31 => 0xBEEA0A6B#32
  | 32 => 0x403F1B9C#32
  | 33 => 0x3F459E27#32
  | 34 => 0x40224BBC#32
  | 35 => 0x3F06F827#32
  | 36 => 0x3F3781F5#32
  | 37 => 0x3E1646C5#32
  | 38 => 0x403771C3#32
  | 39 => 0xBE19ED21#32
  | 40 => 0x3EF81596#32
  | 41 => 0x3FA4A114#32
  | 42 => 0x3F340007#32
  | 43 => 0x3E993C1E#32
  | 44 => 0x3FC3FEDE#32
  | 45 => 0xBF268794#32
  | 46 => 0x3FDEC2CB#32
  | 47 => 0xBE5BA642#32
  | 48 => 0xBEB87363#32
  | 49 => 0x3DA2779B#32
  | 50 => 0x3D6F6232#32
  | 51 => 0xBEADA91F#32
  | 52 => 0x3FA4B222#32
  | 53 => 0x405AD7E8#32
  | 54 => 0x3EE7C528#32
  | 55 => 0x3EE08B81#32
  | 56 => 0x40487E05#32
  | 57 => 0x3FA17472#32
  | 58 => 0x40645CF7#32
  | 59 => 0x4068D14C#32
  | 60 => 0x4006882C#32
  | 61 => 0xBF4ECBB8#32
  | 62 => 0x3F348445#32
  | 63 => 0xBE23D7A3#32
  | 64 => 0xBDE6455E#32
  | 65 => 0xBEBE168C#32
  | 66 => 0x3F588C12#32
  | 67 => 0x3C11D222#32
  | 68 => 0x400B606D#32
  | 69 => 0x3F78343E#32
  | 70 => 0xBF2208FC#32
  | 71 => 0x40374220#32
  | 72 => 0xBF373F9F#32
  | 73 => 0xBD51D4CA#32
  | 74 => 0x3EB134A8#32
  | 75 => 0x3EC5C95E#32
  | 76 => 0xBFB9DE60#32
  | 77 => 0xBF077D54#32
  | 78 => 0xBE75D884#32
  | 79 => 0x400EBAE5#32
  | 80 => 0x3F040CB2#32
  | 81 => 0x3E87C99C#32
  | 82 => 0xBF2D8250#32
  | 83 => 0x400D0D25#32
  | 84 => 0x3F8B4774#32
  | 85 => 0x3FAD94C6#32
  | 86 => 0x3F323D9D#32
  | 87 => 0x3FC253D1#32
  | 88 => 0x402B6B50#32
  | 89 => 0xBE25FE04#32
  | 90 => 0xBDB2B61B#32
  | 91 => 0x400C7F23#32
  | 92 => 0x3D1AC8B9#32
  | 93 => 0x3F0B1B56#32
  | 94 => 0xBEBDAF70#32
  | 95 => 0x3F8A41FC#32
  | 96 => 0x400BB4E0#32
  | 97 => 0xBEF5377C#32
  | 98 => 0x3EE21160#32
  | 99 => 0x3EB0E29F#32
  | 100 => 0x3F8C583F#32
  | 101 => 0x3EA1ADAC#32
  | 102 => 0x40235289#32
  | 103 => 0x4057EAA0#32
  | 104 => 0xBF85F103#32
  | 105 => 0xBF202228#32
  | 106 => 0xBF4383B4#32
  | 107 => 0xBE3D16D2#32
  | 108 => 0x3F48ED65#32
  | 109 => 0x3E895CEC#32
  | 110 => 0xBED92A86#32
  | 111 => 0x3D4B9432#32
  | 112 => 0xBE8E66C5#32
  | 113 => 0xBF06BCF0#32
  | 114 => 0x3F33D50F#32
  | 115 => 0x3F39C24A#32
  | 116 => 0x3FA52E42#32
  | 117 => 0x3F834EC7#32
  | 118 => 0x3FCE7B65#32
  | 119 => 0x3ED72689#32
  | 120 => 0xBF6219AB#32
  | 121 => 0x3FF09284#32
  | 122 => 0x3EE0D0B0#32
  | 123 => 0xBEE41C6D#32
  | 124 => 0x4035923A#32
  | 125 => 0xBE65BB87#32
  | 126 => 0x3F794ED4#32
  | 127 => 0xBD05E918#32
  | _ => 0#32

noncomputable abbrev lit0t0_765 (i : Nat) : BitVec 32 := match i % 128 with
  | 0 => 0xBF5522C6#32
  | 1 => 0x3ED06CB8#32
  | 2 => 0x3EBFBC29#32
  | 3 => 0x3FBF328E#32
  | 4 => 0x3EB9A54D#32
  | 5 => 0x3EF3D10E#32
  | 6 => 0x3F5DE5C1#32
  | 7 => 0xBBEEFB5C#32
  | 8 => 0x3F9E811C#32
  | 9 => 0xBF2AD041#32
  | 10 => 0x3ECDA665#32
  | 11 => 0xBF6DDD1F#32
  | 12 => 0x3FD70259#32
  | 13 => 0x3E88AB99#32
  | 14 => 0x3F937B7D#32
  | 15 => 0xBF19738C#32
  | 16 => 0x3FC35C15#32
  | 17 => 0x3FBFD30D#32
  | 18 => 0x3DDB63A9#32
  | 19 => 0x3F612010#32
  | 20 => 0x3E878152#32
  | 21 => 0x40028606#32
  | 22 => 0xBE2B93C2#32
  | 23 => 0xBE9D1C7D#32
  | 24 => 0x3FB30ACA#32
  | 25 => 0xBFC6876F#32
  | 26 => 0xBED7F3D2#32
  | 27 => 0x400EF455#32
  | 28 => 0x3D1FE89A#32
  | 29 => 0x3E7C91CB#32
  | 30 => 0x401F3BCF#32
  | 31 => 0x40478866#32
  | 32 => 0x3EA32523#32
  | 33 => 0x3F8A5425#32
  | 34 => 0x3D3F53D7#32
  | 35 => 0xBF0A2E59#32
  | 36 => 0xBF93BDE8#32
  | 37 => 0x3DD7315C#32
  | 38 => 0xBFB2CADC#32
  | 39 => 0xBEE24C9B#32
  | 40 => 0x3FC53047#32
  | 41 => 0x40623A3F#32
  | 42 => 0x3F013AD3#32
  | 43 => 0x3EAC67F4#32
  | 44 => 0x409ECEC6#32
  | 45 => 0x3F1D4176#32
  | 46 => 0xBF11CBE9#32
  | 47 => 0x3F5C961E#32
  | 48 => 0x3F7400DA#32
  | 49 => 0x3FD034F6#32
  | 50 => 0xBF594405#32
  | 51 => 0x3E97E548#32
  | 52 => 0xBE6CB220#32
  | 53 => 0xBF5A06AC#32
  | 54 => 0xBE3D18B6#32
  | 55 => 0x3FCF0A32#32
  | 56 => 0xBEC61E94#32
  | 57 => 0xBE2AABD8#32
  | 58 => 0xBEA48AAA#32
  | 59 => 0x3FB0038D#32
  | 60 => 0x40076609#32
  | 61 => 0xBECD3BED#32
  | 62 => 0xBD863F81#32
  | 63 => 0x3EAAFEAB#32
  | 64 => 0x3FCC5DAA#32
  | 65 => 0x3E9DB328#32
  | 66 => 0x4042AD6A#32
  | 67 => 0x3F0B30F5#32
  | 68 => 0x3F520D60#32
  | 69 => 0xBE2C39D0#32
  | 70 => 0xBEE7C1BA#32
  | 71 => 0x3F89955B#32
  | 72 => 0x401E4DB8#32
  | 73 => 0x3F0913E2#32
  | 74 => 0x3F3362DD#32
  | 75 => 0x3FAEA630#32
  | 76 => 0x3FA8941B#32
  | 77 => 0x4085A23F#32
  | 78 => 0x3F2BA237#32
  | 79 => 0x40580E97#32
  | 80 => 0xBF72110E#32
  | 81 => 0x3D768D75#32
  | 82 => 0x3EDCF620#32
  | 83 => 0xBDD0FC69#32
  | 84 => 0xBF063A28#32
  | 85 => 0xBED27C69#32
  | 86 => 0x3EECAB7C#32
  | 87 => 0xBF5B4156#32
  | 88 => 0x3F336EE4#32
  | 89 => 0x3F8843DD#32
  | 90 => 0x3F8DF081#32
  | 91 => 0xBF5829B3#32
  | 92 => 0x403FE689#32
  | 93 => 0x3E90C71C#32
  | 94 => 0x3FEA8C61#32
  | 95 => 0x3F68EA10#32
  | 96 => 0x3DB38DDD#32
  | 97 => 0xBEB2F841#32
  | 98 => 0x3FB0577E#32
  | 99 => 0xBF2D2522#32
  | 100 => 0x4043B204#32
  | 101 => 0xBF4AADBB#32
  | 102 => 0x3F850D5C#32
  | 103 => 0xBF4420A4#32
  | 104 => 0x3FED7DA4#32
  | 105 => 0x3F210DCE#32
  | 106 => 0x3E980DFF#32
  | 107 => 0xBEA1AB62#32
  | 108 => 0x3F898673#32
  | 109 => 0x3E8E16A4#32
  | 110 => 0xBEA3DBDD#32
  | 111 => 0x3F53BFB5#32
  | 112 => 0x3E1320FB#32
  | 113 => 0xBE94613F#32
  | 114 => 0x401C7B9E#32
  | 115 => 0x3F23A550#32
  | 116 => 0xBF475A52#32
  | 117 => 0x3FA82C69#32
  | 118 => 0x3F74EF57#32
  | 119 => 0xBD48A7FC#32
  | 120 => 0xBE20E973#32
  | 121 => 0x3EB2A55D#32
  | 122 => 0x3F9F0032#32
  | 123 => 0x3EFFE634#32
  | 124 => 0xBF491C8C#32
  | 125 => 0x3EF63470#32
  | 126 => 0xBF39874B#32
  | 127 => 0x3DB83966#32
  | _ => 0#32

noncomputable abbrev lit0t0_766 (i : Nat) : BitVec 32 := match i % 128 with
  | 0 => 0x3FF38CCE#32
  | 1 => 0xBF098442#32
  | 2 => 0xBF2E47A6#32
  | 3 => 0xBD9346C4#32
  | 4 => 0x3EA2722A#32
  | 5 => 0xBFCCE3D7#32
  | 6 => 0x3F9454B8#32
  | 7 => 0x3F2A7EE9#32
  | 8 => 0x3F8E41A0#32
  | 9 => 0x3FF2A507#32
  | 10 => 0xBEA22776#32
  | 11 => 0xBE8614C4#32
  | 12 => 0x3E22DF51#32
  | 13 => 0x3EF5BD03#32
  | 14 => 0x3FF2B0D8#32
  | 15 => 0x3FEE3E80#32
  | 16 => 0x3FA1E2B9#32
  | 17 => 0x3D61A75B#32
  | 18 => 0xBF4D819D#32
  | 19 => 0x3E98304F#32
  | 20 => 0xBF3D87A5#32
  | 21 => 0x3F609F7C#32
  | 22 => 0xBF258B98#32
  | 23 => 0x3DC5B8ED#32
  | 24 => 0xBF4EA273#32
  | 25 => 0xBE253BE1#32
  | 26 => 0x3F8F9760#32
  | 27 => 0xBEA35D55#32
  | 28 => 0xBF5E5C3D#32
  | 29 => 0x400E4F4A#32
  | 30 => 0x405D2D9E#32
  | 31 => 0xBE9C12EF#32
  | 32 => 0xBEEE2172#32
  | 33 => 0x3F25B794#32
  | 34 => 0xBE950CBE#32
  | 35 => 0x3F12B31E#32
  | 36 => 0xBF92A6C2#32
  | 37 => 0x3FEF4C43#32
  | 38 => 0xBEBC3FCA#32
  | 39 => 0x3F83257C#32
  | 40 => 0xBFB7D177#32
  | 41 => 0xBF108BE8#32
  | 42 => 0x3F30BCAE#32
  | 43 => 0xBD2BC232#32
  | 44 => 0xBF6F6D9B#32
  | 45 => 0xBF52FF8C#32
  | 46 => 0x3F286947#32
  | 47 => 0xBF39FA59#32
  | 48 => 0xBF73D4F2#32
  | 49 => 0x402070B4#32
  | 50 => 0x3EB4B528#32
  | 51 => 0xBE3E273E#32
  | 52 => 0xBE8034E0#32
  | 53 => 0xBF0552AA#32
  | 54 => 0x3E867095#32
  | 55 => 0x401CA03A#32
  | 56 => 0x3FF5A4D8#32
  | 57 => 0x3D96DC06#32
  | 58 => 0xBF565C04#32
  | 59 => 0xBEEC60B4#32
  | 60 => 0xBED9A868#32
  | 61 => 0xBE31C86B#32
  | 62 => 0xBEB8FAF3#32
  | 63 => 0x3F56F98F#32
  | 64 => 0xBFB4B573#32
  | 65 => 0xBF946E26#32
  | 66 => 0x3E42CC0F#32
  | 67 => 0xBFEF5F06#32
  | 68 => 0x402FC481#32
  | 69 => 0x3D9C9290#32
  | 70 => 0x3F98433F#32
  | 71 => 0x401507DF#32
  | 72 => 0x3FDF38BE#32
  | 73 => 0x3FA4EFC6#32
  | 74 => 0xBE0FC59A#32
  | 75 => 0xBDCEFCBB#32
  | 76 => 0x4050BFCF#32
  | 77 => 0x3EEB94A4#32
  | 78 => 0x3F6A3EDE#32
  | 79 => 0xBEE1BD34#32
  | 80 => 0x3FBCD36B#32
  | 81 => 0x3E90761B#32
  | 82 => 0x3F906EB8#32
  | 83 => 0x3F8F5448#32
  | 84 => 0xBE9A44F0#32
  | 85 => 0xBF58C7B7#32
  | 86 => 0xBEB00228#32
  | 87 => 0x40C90960#32
  | 88 => 0x3E08821A#32
  | 89 => 0xBF04D98F#32
  | 90 => 0xBF8A1D04#32
  | 91 => 0x402A5E76#32
  | 92 => 0x40327F1D#32
  | 93 => 0x3DB26D83#32
  | 94 => 0xBF5B5152#32
  | 95 => 0x3E87D40C#32
  | 96 => 0xBD8E8CBD#32
  | 97 => 0xBFC495E9#32
  | 98 => 0x3FA8EA25#32
  | 99 => 0x3F1D51BB#32
  | 100 => 0xBE8726DE#32
  | 101 => 0x3FAB67BB#32
  | 102 => 0xBF520F5C#32
  | 103 => 0x40491D87#32
  | 104 => 0x4047D1CE#32
  | 105 => 0xBF5B4683#32
  | 106 => 0xBEDD5CFE#32
  | 107 => 0xBEAF4578#32
  | 108 => 0x3F6485B7#32
  | 109 => 0x4028626D#32
  | 110 => 0xBE405795#32
  | 111 => 0xBC82D031#32
  | 112 => 0xBF252B14#32
  | 113 => 0x40216008#32
  | 114 => 0x3F0E61AD#32
  | 115 => 0x3E5D2923#32
  | 116 => 0xBCA17677#32
  | 117 => 0x3F1ED5D4#32
  | 118 => 0x3FB0FFA8#32
  | 119 => 0x3F1CB9AC#32
  | 120 => 0x3EB0CDC9#32
  | 121 => 0x3F5AC150#32
  | 122 => 0xBEB2C834#32
  | 123 => 0xBF0718FA#32
  | 124 => 0x3F1F2FA9#32
  | 125 => 0xBD9C71F9#32
  | 126 => 0x3FB47D50#32
  | 127 => 0xBEE70154#32
  | _ => 0#32

noncomputable abbrev lit0t0_767 (i : Nat) : BitVec 32 := match i % 128 with
  | 0 => 0xBE96E796#32
  | 1 => 0x3F4595C1#32
  | 2 => 0x3FBB9AF0#32
  | 3 => 0xBEDAB1A1#32
  | 4 => 0x3A9AF772#32
  | 5 => 0xBECC42B5#32
  | 6 => 0x3E877D26#32
  | 7 => 0xBF372D92#32
  | 8 => 0x400AA180#32
  | 9 => 0xBF1F0E1B#32
  | 10 => 0xBF8CD2AC#32
  | 11 => 0x3F25DD7E#32
  | 12 => 0x3FDE9B4E#32
  | 13 => 0x4044232A#32
  | 14 => 0x400ACC87#32
  | 15 => 0x3F8451BD#32
  | 16 => 0x400843C2#32
  | 17 => 0x3FBDD90C#32
  | 18 => 0xBF69D244#32
  | 19 => 0xBEB380F9#32
  | 20 => 0x3FA367E4#32
  | 21 => 0xBE491882#32
  | 22 => 0xBDD69D69#32
  | 23 => 0x40149D79#32
  | 24 => 0x3FC74A9A#32
  | 25 => 0x3E766CE0#32
  | 26 => 0x3FBF9796#32
  | 27 => 0x3EBE3999#32
  | 28 => 0x3FBFA7B9#32
  | 29 => 0xBEF26B42#32
  | 30 => 0x3D0CEB22#32
  | 31 => 0x3F2BA308#32
  | 32 => 0x3E7CB7A1#32
  | 33 => 0x3E842C51#32
  | 34 => 0x3E1BDB39#32
  | 35 => 0x402E56AE#32
  | 36 => 0x3F6D631B#32
  | 37 => 0x3F23937D#32
  | 38 => 0x4032B913#32
  | 39 => 0xBE8A2910#32
  | 40 => 0xBEAD61C7#32
  | 41 => 0xBE6E2624#32
  | 42 => 0x3F122841#32
  | 43 => 0x3E72D326#32
  | 44 => 0x40916D7D#32
  | 45 => 0xBC91ED88#32
  | 46 => 0xBED318E1#32
  | 47 => 0x3F339A4B#32
  | 48 => 0xBF8CA687#32
  | 49 => 0x3EC3E1E4#32
  | 50 => 0x3D1E09CF#32
  | 51 => 0x3FB8285D#32
  | 52 => 0x3DF5E7B1#32
  | 53 => 0x3EE0508D#32
  | 54 => 0x400F6623#32
  | 55 => 0xBF602414#32
  | 56 => 0x3C4E2C74#32
  | 57 => 0x4022DF4E#32
  | 58 => 0x3FD069EB#32
  | 59 => 0x3F992135#32
  | 60 => 0x3D49CBA7#32
  | 61 => 0xBFB4338B#32
  | 62 => 0xBFA28BF5#32
  | 63 => 0xBCEAD9E8#32
  | 64 => 0xBF77953D#32
  | 65 => 0x3EF56D08#32
  | 66 => 0x3E4FA6A5#32
  | 67 => 0xBE5A25F9#32
  | 68 => 0x3EBBCB90#32
  | 69 => 0x3FA7C2E4#32
  | 70 => 0x3D96F97E#32
  | 71 => 0xBF6F42DF#32
  | 72 => 0xBF4B98C3#32
  | 73 => 0x3F13C600#32
  | 74 => 0xBF7A6571#32
  | 75 => 0x3FA93CD3#32
  | 76 => 0x3FC0D99D#32
  | 77 => 0x3F5A9628#32
  | 78 => 0x3F86E309#32
  | 79 => 0x3DF149B3#32
  | 80 => 0x3FEC24AF#32
  | 81 => 0x3DE65701#32
  | 82 => 0x3F77E005#32
  | 83 => 0xBE8C6181#32
  | 84 => 0x3EBACC2B#32
  | 85 => 0x3FE3117D#32
  | 86 => 0x3F3F7261#32
  | 87 => 0x40376E46#32
  | 88 => 0xBF39E85F#32
  | 89 => 0xBF805E9C#32
  | 90 => 0x3EC7B249#32
  | 91 => 0x4056ACE2#32
  | 92 => 0x3F96CA0F#32
  | 93 => 0x3E93054D#32
  | 94 => 0x3FB8E29E#32
  | 95 => 0x3FA70A07#32
  | 96 => 0xBF41A714#32
  | 97 => 0x400F2095#32
  | 98 => 0xBF95E62E#32
  | 99 => 0x3FB7159D#32
  | 100 => 0xBEF1DC5E#32
  | 101 => 0xBF853B0B#32
  | 102 => 0x3F9E1ADF#32
  | 103 => 0x3FD4B44B#32
  | 104 => 0x3F49CA27#32
  | 105 => 0x404BC124#32
  | 106 => 0x3F102184#32
  | 107 => 0x3F38E2B9#32
  | 108 => 0x3F689BDE#32
  | 109 => 0x4033F411#32
  | 110 => 0x3E5266C3#32
  | 111 => 0x3F119A26#32
  | 112 => 0xBFBD53FA#32
  | 113 => 0x401633BF#32
  | 114 => 0x3F16C640#32
  | 115 => 0x3F535811#32
  | 116 => 0xBE7A2CA0#32
  | 117 => 0x3F4A23AB#32
  | 118 => 0x3FB256AD#32
  | 119 => 0x3F7BA099#32
  | 120 => 0x3ED7F21C#32
  | 121 => 0x3E07E8AF#32
  | 122 => 0xBD5820E0#32
  | 123 => 0xBEFF8F11#32
  | 124 => 0xBEC875A1#32
  | 125 => 0x3E1955FB#32
  | 126 => 0xBF12829C#32
  | 127 => 0xBF4063D1#32
  | _ => 0#32

noncomputable abbrev lit0t0_768 (i : Nat) : BitVec 32 := match i % 128 with
  | 0 => 0xBFAFAF5D#32
  | 1 => 0x3F9089E4#32
  | 2 => 0x3F495FC4#32
  | 3 => 0x3FCBBDA0#32
  | 4 => 0x4033D5DD#32
  | 5 => 0x4013BDB4#32
  | 6 => 0xBF4F8BB6#32
  | 7 => 0x40036ECB#32
  | 8 => 0x3FBC816E#32
  | 9 => 0x3F5B79C2#32
  | 10 => 0x3F847A1D#32
  | 11 => 0x3EF8EAE8#32
  | 12 => 0xBFBB6910#32
  | 13 => 0xBF9516EE#32
  | 14 => 0x3EB9A32E#32
  | 15 => 0x40AF34C1#32
  | 16 => 0xBEB2F011#32
  | 17 => 0x3FE642D6#32
  | 18 => 0x3D69EC6A#32
  | 19 => 0x3F1CE9CE#32
  | 20 => 0x3E4B4A3D#32
  | 21 => 0x3FD52922#32
  | 22 => 0xBF1DB9B7#32
  | 23 => 0xBF1F6FC5#32
  | 24 => 0xBF382395#32
  | 25 => 0x3FB0B837#32
  | 26 => 0x3FA9437C#32
  | 27 => 0xBF651E66#32
  | 28 => 0x3F5E494B#32
  | 29 => 0xBEE3BAD6#32
  | 30 => 0x3E89A991#32
  | 31 => 0x3F42640A#32
  | 32 => 0x3E9A74F3#32
  | 33 => 0x3DF96263#32
  | 34 => 0xBF43CD49#32
  | 35 => 0xBF84793B#32
  | 36 => 0x3E9D7279#32
  | 37 => 0xBE03D694#32
  | 38 => 0xBFA581AE#32
  | 39 => 0x3D85DF0D#32
  | 40 => 0x4079AED4#32
  | 41 => 0x40556B43#32
  | 42 => 0xBFC62E62#32
  | 43 => 0x3F21DB15#32
  | 44 => 0x3F2242F9#32
  | 45 => 0xBFB98D0D#32
  | 46 => 0xBF32E0AB#32
  | 47 => 0x3FAB0047#32
  | 48 => 0xBE8CDA24#32
  | 49 => 0x402D060F#32
  | 50 => 0x3F8F7D0E#32
  | 51 => 0x402192B6#32
  | 52 => 0x3F326D1F#32
  | 53 => 0x40137CCE#32
  | 54 => 0xBF8C89DA#32
  | 55 => 0x3F94B624#32
  | 56 => 0x3FAC5A8C#32
  | 57 => 0x3F092244#32
  | 58 => 0x3F6B24FA#32
  | 59 => 0x400EB14A#32
  | 60 => 0x3F6FDF9B#32
  | 61 => 0xBF2D1D94#32
  | 62 => 0x40426B77#32
  | 63 => 0xBF015A1E#32
  | 64 => 0x3D2BCD2B#32
  | 65 => 0xBF7423C6#32
  | 66 => 0xBD3C88D8#32
  | 67 => 0x3F1AE7CB#32
  | 68 => 0xBF39539A#32
  | 69 => 0x3F6A4995#32
  | 70 => 0x402AABCC#32
  | 71 => 0x3F560C06#32
  | 72 => 0xBF92E7CD#32
  | 73 => 0x3F444C81#32
  | 74 => 0xBEC43548#32
  | 75 => 0xBF088E81#32
  | 76 => 0xBF34F1EB#32
  | 77 => 0xBFBF01EE#32
  | 78 => 0x3FC8207A#32
  | 79 => 0x40194500#32
  | 80 => 0xBEB5B115#32
  | 81 => 0xBF03AD6E#32
  | 82 => 0xBEE1A53B#32
  | 83 => 0xBDDC48C4#32
  | 84 => 0xBF11B784#32
  | 85 => 0xBE2FBF45#32
  | 86 => 0xBEF2352B#32
  | 87 => 0x3FA0E0B8#32
  | 88 => 0xBD0F56A3#32
  | 89 => 0xBEF71598#32
  | 90 => 0xBDA725EA#32
  | 91 => 0xBEF38B12#32
  | 92 => 0x3EE7ACEF#32
  | 93 => 0x3ED27CA0#32
  | 94 => 0x40867D13#32
  | 95 => 0x3F8EDC6A#32
  | 96 => 0x3E71974E#32
  | 97 => 0xBF226BAD#32
  | 98 => 0xBEA5F5AE#32
  | 99 => 0x3E77AF4E#32
  | 100 => 0x3DEC1EC8#32
  | 101 => 0x401FEBCD#32
  | 102 => 0x40069AC8#32
  | 103 => 0x4024593E#32
  | 104 => 0xBF729D26#32
  | 105 => 0x4063CCCA#32
  | 106 => 0x3FB01A0F#32
  | 107 => 0xBF7C8F7A#32
  | 108 => 0xBE62DBB5#32
  | 109 => 0x3E3572CE#32
  | 110 => 0xBF856E22#32
  | 111 => 0x3F6A8BAD#32
  | 112 => 0x40204A38#32
  | 113 => 0x4017077D#32
  | 114 => 0x3FD27F2F#32
  | 115 => 0x3FB21BD8#32
  | 116 => 0x3F3EF694#32
  | 117 => 0xBE9BFA27#32
  | 118 => 0xBB3DCD92#32
  | 119 => 0x3F35A1A6#32
  | 120 => 0xBF41B387#32
  | 121 => 0xBDCE9D15#32
  | 122 => 0xBE238AD3#32
  | 123 => 0x3F0357FF#32
  | 124 => 0x401888FB#32
  | 125 => 0xBF90A722#32
  | 126 => 0x4003DBC5#32
  | 127 => 0x3DD01F04#32
  | _ => 0#32

noncomputable abbrev lit0t0_769 (i : Nat) : BitVec 32 := match i % 128 with
  | 0 => 0x3E9DBCA3#32
  | 1 => 0xBCCB7B68#32
  | 2 => 0x3F930A4C#32
  | 3 => 0x3F3ABF7B#32
  | 4 => 0x3F9F0EBD#32
  | 5 => 0xBF546934#32
  | 6 => 0x3EEF0467#32
  | 7 => 0x3F8CFC56#32
  | 8 => 0x3FE57D5F#32
  | 9 => 0x3FF43E35#32
  | 10 => 0xBE8FD348#32
  | 11 => 0x3F9AF199#32
  | 12 => 0xBFA7DF93#32
  | 13 => 0x3EE32406#32
  | 14 => 0x3D71B992#32
  | 15 => 0xBEA73BD7#32
  | 16 => 0x3F4503C0#32
  | 17 => 0x3FCCED8C#32
  | 18 => 0x3FFE6E5C#32
  | 19 => 0x400EB1CB#32
  | 20 => 0xBF6A3BE1#32
  | 21 => 0x3F7CCC9A#32
  | 22 => 0xBF7DEE64#32
  | 23 => 0xBF04A6FD#32
  | 24 => 0x3F93384C#32
  | 25 => 0xBECE3139#32
  | 26 => 0x3FF92D25#32
  | 27 => 0x3E624D01#32
  | 28 => 0x3F025853#32
  | 29 => 0xBECB22D4#32
  | 30 => 0x3F3056AB#32
  | 31 => 0x401C4A1E#32
  | 32 => 0xBE5451A4#32
  | 33 => 0xBFBF1887#32
  | 34 => 0x40296794#32
  | 35 => 0xBF1C61C4#32
  | 36 => 0xBDA3E63D#32
  | 37 => 0x401751B2#32
  | 38 => 0xBE31A0CD#32
  | 39 => 0x3EC6627F#32
  | 40 => 0x3FB98AA5#32
  | 41 => 0x3FA9CBD9#32
  | 42 => 0x3F81B3CD#32
  | 43 => 0xBF8E7578#32
  | 44 => 0x3F3ED9F1#32
  | 45 => 0x3FCDDC6D#32
  | 46 => 0x400137F7#32
  | 47 => 0x3F7651B9#32
  | 48 => 0x3E88F819#32
  | 49 => 0x3F60A939#32
  | 50 => 0x3CF6B862#32
  | 51 => 0x3FAC1A57#32
  | 52 => 0x3F9EAEE4#32
  | 53 => 0x3F6FEC17#32
  | 54 => 0x4068FDA3#32
  | 55 => 0x3FE9779C#32
  | 56 => 0x3E958859#32
  | 57 => 0x3F731C8E#32
  | 58 => 0xBF823C9C#32
  | 59 => 0x3F37AA44#32
  | 60 => 0xBF915B08#32
  | 61 => 0xBF8D77CA#32
  | 62 => 0xBE0D617C#32
  | 63 => 0x3DA4A76C#32
  | 64 => 0x3CF28627#32
  | 65 => 0x3EDA1A7E#32
  | 66 => 0x3E296E90#32
  | 67 => 0xBF81ADCB#32
  | 68 => 0x3FDE2176#32
  | 69 => 0x3FD41973#32
  | 70 => 0x3EA7276D#32
  | 71 => 0xBF3F5C8F#32
  | 72 => 0x401049B8#32
  | 73 => 0x3EB65E41#32
  | 74 => 0xBC2C947F#32
  | 75 => 0xBEFBE20A#32
  | 76 => 0x3ED92A8F#32
  | 77 => 0x3F1E7A1E#32
  | 78 => 0xBF858868#32
  | 79 => 0x3ED4D71E#32
  | 80 => 0x3F0592D4#32
  | 81 => 0x3F8AC30E#32
  | 82 => 0x3F1466C8#32
  | 83 => 0x3F958C40#32
  | 84 => 0x3FC71FE8#32
  | 85 => 0xBF015214#32
  | 86 => 0x3FB32A45#32
  | 87 => 0x400054C9#32
  | 88 => 0xBF07F535#32
  | 89 => 0xBDB3445C#32
  | 90 => 0x3F5DF0EE#32
  | 91 => 0xBF2BA74D#32
  | 92 => 0xBF3C66FC#32
  | 93 => 0x3F931DAC#32
  | 94 => 0x40257989#32
  | 95 => 0x3F50FC2B#32
  | 96 => 0xBF807708#32
  | 97 => 0xBEA9C0CB#32
  | 98 => 0x3DCF48E5#32
  | 99 => 0x40134B3B#32
  | 100 => 0x3E15CA58#32
  | 101 => 0xBF5B126A#32
  | 102 => 0x3EBD5382#32
  | 103 => 0x3ED80593#32
  | 104 => 0x3D874C40#32
  | 105 => 0xBE822D53#32
  | 106 => 0x3F9CC963#32
  | 107 => 0x3F0F3F03#32
  | 108 => 0xBE9EF6BB#32
  | 109 => 0x3F8B86B1#32
  | 110 => 0xBDFE5E21#32
  | 111 => 0x3F872C26#32
  | 112 => 0x3FA28D33#32
  | 113 => 0x402AA1D3#32
  | 114 => 0x3EAAFB00#32
  | 115 => 0xBF04B263#32
  | 116 => 0xBEF2D5C5#32
  | 117 => 0x3FC793D2#32
  | 118 => 0x3F2AD116#32
  | 119 => 0xBF6CAD3B#32
  | 120 => 0x3F861E62#32
  | 121 => 0x407E546C#32
  | 122 => 0xBF93648A#32
  | 123 => 0x4005C991#32
  | 124 => 0xBF0C107C#32
  | 125 => 0x4007DA3A#32
  | 126 => 0x3C674AFB#32
  | 127 => 0x3EFA5EBD#32
  | _ => 0#32

noncomputable abbrev lit0t0_770 (i : Nat) : BitVec 32 := match i % 128 with
  | 0 => 0x3F26198D#32
  | 1 => 0x3F64F29A#32
  | 2 => 0x3FEE0BEF#32
  | 3 => 0x3FD1EA6A#32
  | 4 => 0x3EFE180C#32
  | 5 => 0x3E8120FE#32
  | 6 => 0x3F9601A4#32
  | 7 => 0x3F417DCE#32
  | 8 => 0x3EB1B2F2#32
  | 9 => 0x3DB14E01#32
  | 10 => 0x3CF1F4AA#32
  | 11 => 0x3F1C7D12#32
  | 12 => 0xBF666D9A#32
  | 13 => 0x3FE45D2E#32
  | 14 => 0x400C8FFD#32
  | 15 => 0xBF50C019#32
  | 16 => 0x3F323F30#32
  | 17 => 0xBDC6EB64#32
  | 18 => 0x3F2416BC#32
  | 19 => 0x3F850468#32
  | 20 => 0xBF1596A7#32
  | 21 => 0x3F15C7ED#32
  | 22 => 0xBEB92E43#32
  | 23 => 0xBEFF3897#32
  | 24 => 0x3FD6F49E#32
  | 25 => 0x3D6FD590#32
  | 26 => 0x3F615678#32
  | 27 => 0x3E1310C8#32
  | 28 => 0xBF9613B1#32
  | 29 => 0x3FCA7E0C#32
  | 30 => 0x3FA7B673#32
  | 31 => 0xBEF0E28F#32
  | 32 => 0x3FE7D3E2#32
  | 33 => 0xBEB4726E#32
  | 34 => 0x3F3B081E#32
  | 35 => 0x3E00372E#32
  | 36 => 0xBE6E88FC#32
  | 37 => 0xBFB044E6#32
  | 38 => 0x4029ED99#32
  | 39 => 0xBF9282EE#32
  | 40 => 0x3FFCEE2D#32
  | 41 => 0x4071D0C9#32
  | 42 => 0x3EEE3040#32
  | 43 => 0xBF78A4A6#32
  | 44 => 0xBFAA8E8F#32
  | 45 => 0xBF97D0A7#32
  | 46 => 0xBC47DAAF#32
  | 47 => 0xBF71B824#32
  | 48 => 0x3FA1E967#32
  | 49 => 0x3FDA1F47#32
  | 50 => 0xBFA97AE2#32
  | 51 => 0x3F1039F4#32
  | 52 => 0x3E84DF4A#32
  | 53 => 0xBF850EDE#32
  | 54 => 0xBFD40C96#32
  | 55 => 0xBDDDEE46#32
  | 56 => 0x3F80488D#32
  | 57 => 0x3FB6ED5F#32
  | 58 => 0x40205E9E#32
  | 59 => 0xBF2EE5D4#32
  | 60 => 0x3E669BAC#32
  | 61 => 0x3F27CBA9#32
  | 62 => 0x3F73E92A#32
  | 63 => 0xBF4654D9#32
  | 64 => 0x3F075E20#32
  | 65 => 0xBD88CA20#32
  | 66 => 0x3FBD9BDB#32
  | 67 => 0xBF687EEF#32
  | 68 => 0xBF0F4D52#32
  | 69 => 0xBF1AD8BF#32
  | 70 => 0x3F4E5CB0#32
  | 71 => 0xBF3F4A7F#32
  | 72 => 0x3F5A8970#32
  | 73 => 0xBF97E2DA#32
  | 74 => 0x3FD44356#32
  | 75 => 0x405D64C4#32
  | 76 => 0xBE569304#32
  | 77 => 0x3FA77E37#32
  | 78 => 0xBDB8DB8D#32
  | 79 => 0xBF402A5D#32
  | 80 => 0xBF8A0DD8#32
  | 81 => 0xBF2D281C#32
  | 82 => 0x3F0F06C8#32
  | 83 => 0x4019FF3A#32
  | 84 => 0xBF23F41A#32
  | 85 => 0x3F8ABA37#32
  | 86 => 0x3F06C15A#32
  | 87 => 0x3E372CE5#32
  | 88 => 0xBC9FDC95#32
  | 89 => 0x3FA63E3B#32
  | 90 => 0x3F213DBE#32
  | 91 => 0x3FADC496#32
  | 92 => 0x3FF845EA#32
  | 93 => 0x3FD9B4D2#32
  | 94 => 0x3F341C5C#32
  | 95 => 0x3FF22E45#32
  | 96 => 0xBE2A3F79#32
  | 97 => 0x3CF2DA7D#32
  | 98 => 0x3ECFFD06#32
  | 99 => 0x401ACB32#32
  | 100 => 0x4000A709#32
  | 101 => 0x3F6023BF#32
  | 102 => 0x3D170C4D#32
  | 103 => 0xBEE8119A#32
  | 104 => 0xBE6A0A2D#32
  | 105 => 0x3A63E15A#32
  | 106 => 0x3F8B4876#32
  | 107 => 0xBF21427A#32
  | 108 => 0xBF8E678E#32
  | 109 => 0x3FC5302A#32
  | 110 => 0xBF1917D7#32
  | 111 => 0x400E98D7#32
  | 112 => 0xBE151408#32
  | 113 => 0x3E75F59B#32
  | 114 => 0x3D8B3284#32
  | 115 => 0x3F18F9D4#32
  | 116 => 0x3F814306#32
  | 117 => 0x3F235EBD#32
  | 118 => 0x40900CC0#32
  | 119 => 0xBF62FA1B#32
  | 120 => 0x3F1100A4#32
  | 121 => 0x3ECEC8E1#32
  | 122 => 0xBF4F17DF#32
  | 123 => 0xBEFB17F0#32
  | 124 => 0xBF0984F7#32
  | 125 => 0x3EFA968A#32
  | 126 => 0x40376703#32
  | 127 => 0xBD33F7A1#32
  | _ => 0#32

noncomputable abbrev lit0t0_771 (i : Nat) : BitVec 32 := match i % 128 with
  | 0 => 0xBF411ECD#32
  | 1 => 0x4022F542#32
  | 2 => 0xBEE44B06#32
  | 3 => 0xBF0E7774#32
  | 4 => 0xBECE97F1#32
  | 5 => 0x3E952F35#32
  | 6 => 0x3DE2AE5D#32
  | 7 => 0x3E84E0B2#32
  | 8 => 0xBED70A02#32
  | 9 => 0xBE0F8C45#32
  | 10 => 0xBC873196#32
  | 11 => 0x3F4A2DE3#32
  | 12 => 0x3FD45A1F#32
  | 13 => 0x3FBF40F4#32
  | 14 => 0x3D0CF6A6#32
  | 15 => 0xBF9A08D0#32
  | 16 => 0xBFAC2B12#32
  | 17 => 0x3FF1CFBB#32
  | 18 => 0x3EFD7426#32
  | 19 => 0x3F86E7D9#32
  | 20 => 0xBEDB9463#32
  | 21 => 0xBF984938#32
  | 22 => 0xBEAE043F#32
  | 23 => 0x3F71F4DC#32
  | 24 => 0xBF9643DC#32
  | 25 => 0x3F87514B#32
  | 26 => 0x3FEC12B6#32
  | 27 => 0xBEFE2274#32
  | 28 => 0xBE20C0E8#32
  | 29 => 0x3FAF3E5A#32
  | 30 => 0x3ECEC7A6#32
  | 31 => 0xBF8B7FB8#32
  | 32 => 0x403DABD0#32
  | 33 => 0xBE8DA2C1#32
  | 34 => 0xBCFA282E#32
  | 35 => 0x3DF43A1E#32
  | 36 => 0x3E9B96DE#32
  | 37 => 0x3F07D978#32
  | 38 => 0x3FAD8A61#32
  | 39 => 0x3FB884A5#32
  | 40 => 0x4063327E#32
  | 41 => 0xBEF02278#32
  | 42 => 0xBF05E444#32
  | 43 => 0x3FA1E6A2#32
  | 44 => 0xBEA4079E#32
  | 45 => 0xBF6F509E#32
  | 46 => 0xBEF2DEFC#32
  | 47 => 0xBF85D708#32
  | 48 => 0xBFE263CE#32
  | 49 => 0x40331C54#32
  | 50 => 0x3F987BD5#32
  | 51 => 0x3FE3EB7F#32
  | 52 => 0x3F1D5C08#32
  | 53 => 0x3E9C71BB#32
  | 54 => 0x40618793#32
  | 55 => 0x4048EA68#32
  | 56 => 0x3FBC9D03#32
  | 57 => 0xBF1A7431#32
  | 58 => 0xBE8138BB#32
  | 59 => 0x3F8BE117#32
  | 60 => 0xBF3C6922#32
  | 61 => 0x3FB67628#32
  | 62 => 0x3F894D48#32
  | 63 => 0x3FC55596#32
  | 64 => 0xBF83F4CE#32
  | 65 => 0xBF1FB4A0#32
  | 66 => 0xBF5D73C3#32
  | 67 => 0xBFD3F3B2#32
  | 68 => 0x3EE3074F#32
  | 69 => 0x3D88388F#32
  | 70 => 0xBE8F03FF#32
  | 71 => 0xBEE7F045#32
  | 72 => 0xBF780004#32
  | 73 => 0x3FA7B89C#32
  | 74 => 0x3D470519#32
  | 75 => 0x403A6256#32
  | 76 => 0x3EAA3150#32
  | 77 => 0x3E848214#32
  | 78 => 0x3CB70272#32
  | 79 => 0xBEB1F00D#32
  | 80 => 0x3DE33D16#32
  | 81 => 0xBFEF4E06#32
  | 82 => 0xBE9D37BE#32
  | 83 => 0xBFBF55EB#32
  | 84 => 0x4002F0B1#32
  | 85 => 0x3EA7EE05#32
  | 86 => 0x3F60EAFF#32
  | 87 => 0xBDDF1189#32
  | 88 => 0x3FB58048#32
  | 89 => 0xBDE99A1C#32
  | 90 => 0xBF1B43B2#32
  | 91 => 0x3F4CF01E#32
  | 92 => 0x401EFC5C#32
  | 93 => 0x3F55B077#32
  | 94 => 0x3FFD43E4#32
  | 95 => 0x403C548C#32
  | 96 => 0xBEE3CBDA#32
  | 97 => 0x3F0E4CF0#32
  | 98 => 0x3FF9DE91#32
  | 99 => 0x3EC1592E#32
  | 100 => 0x3FA66377#32
  | 101 => 0x3E644CAC#32
  | 102 => 0x3FFECA17#32
  | 103 => 0x3F478AE9#32
  | 104 => 0x3F07CFF9#32
  | 105 => 0xBF35CE02#32
  | 106 => 0x3F82220C#32
  | 107 => 0xBE110CBE#32
  | 108 => 0xBFC32240#32
  | 109 => 0x3F140B40#32
  | 110 => 0x3FBFCA49#32
  | 111 => 0x3E7F3097#32
  | 112 => 0x3E565F7E#32
  | 113 => 0xBEE03966#32
  | 114 => 0x3F37844D#32
  | 115 => 0xBF969125#32
  | 116 => 0x3F686F70#32
  | 117 => 0x3F42B8CF#32
  | 118 => 0xBE45C500#32
  | 119 => 0x40B83B35#32
  | 120 => 0xBF7B6796#32
  | 121 => 0x3F3FF8AE#32
  | 122 => 0x3FA52D49#32
  | 123 => 0x3F191484#32
  | 124 => 0x3FCEAC61#32
  | 125 => 0xBEF02FAA#32
  | 126 => 0x3F8FEBA3#32
  | 127 => 0x3F3BB1DA#32
  | _ => 0#32

noncomputable abbrev lit0t0_772 (i : Nat) : BitVec 32 := match i % 128 with
  | 0 => 0x3E8452F3#32
  | 1 => 0x3F4AF2DA#32
  | 2 => 0xBE5471FF#32
  | 3 => 0x404C8A31#32
  | 4 => 0x40162A84#32
  | 5 => 0x3FA24EC4#32
  | 6 => 0x3E7B8934#32
  | 7 => 0x3EB5A4FF#32
  | 8 => 0x4030EAA2#32
  | 9 => 0x3D8AFD09#32
  | 10 => 0x3FA8F306#32
  | 11 => 0xBF461D91#32
  | 12 => 0xBF2FFCBA#32
  | 13 => 0xBF7A2A8E#32
  | 14 => 0x401BDBF7#32
  | 15 => 0x404D31C1#32
  | 16 => 0x3D2842E1#32
  | 17 => 0x3FABE9C4#32
  | 18 => 0x3F82E22B#32
  | 19 => 0xBF400FDD#32
  | 20 => 0xBEBA1870#32
  | 21 => 0x3F6ED921#32
  | 22 => 0x3F5A70C0#32
  | 23 => 0x401953F4#32
  | 24 => 0x3E0A9790#32
  | 25 => 0x3F114144#32
  | 26 => 0xBF5627F0#32
  | 27 => 0x406CD444#32
  | 28 => 0x3FBA1243#32
  | 29 => 0xBF05FE37#32
  | 30 => 0x406C3A7C#32
  | 31 => 0xBE46CCCC#32
  | 32 => 0xBF09D8EE#32
  | 33 => 0x3F45A3C3#32
  | 34 => 0x3E2308F1#32
  | 35 => 0xBDD2582D#32
  | 36 => 0x3CA3B2CF#32
  | 37 => 0x3F634C50#32
  | 38 => 0x40022B67#32
  | 39 => 0x3FF31F9B#32
  | 40 => 0xBF61FF44#32
  | 41 => 0xBEBD715F#32
  | 42 => 0x3FB2CE94#32
  | 43 => 0x3FCC4DA8#32
  | 44 => 0x3F47E753#32
  | 45 => 0x3FC5CD4E#32
  | 46 => 0x3FB557AD#32
  | 47 => 0xBF15A595#32
  | 48 => 0xBEB47E14#32
  | 49 => 0xBE6D7B27#32
  | 50 => 0x3F00910A#32
  | 51 => 0x3EF13EB2#32
  | 52 => 0xBE312322#32
  | 53 => 0xBEEBEBF9#32
  | 54 => 0x3EAED337#32
  | 55 => 0x3E4BFFF7#32
  | 56 => 0xBF9785AC#32
  | 57 => 0x3EB277DB#32
  | 58 => 0xBF88D500#32
  | 59 => 0x3F7E1F34#32
  | 60 => 0x3EE93F89#32
  | 61 => 0x3FE031F1#32
  | 62 => 0x407D41F7#32
  | 63 => 0x3F09B2E5#32
  | 64 => 0x3FDAFD3A#32
  | 65 => 0xBE040E97#32
  | 66 => 0x3E8C07AB#32
  | 67 => 0x406ED11F#32
  | 68 => 0xBF38D626#32
  | 69 => 0x402964A6#32
  | 70 => 0x3EE74811#32
  | 71 => 0x3F1B169D#32
  | 72 => 0x3FFD6C03#32
  | 73 => 0x3FF9CFAA#32
  | 74 => 0xBD188834#32
  | 75 => 0x3F263488#32
  | 76 => 0xBF2B82EB#32
  | 77 => 0x3F052D8E#32
  | 78 => 0x3E45BC76#32
  | 79 => 0x3FC0980C#32
  | 80 => 0x3F91A5F6#32
  | 81 => 0xBEEB602B#32
  | 82 => 0x4056FB48#32
  | 83 => 0xBF93EA06#32
  | 84 => 0xBEF0B6BC#32
  | 85 => 0x3EEFA530#32
  | 86 => 0x3F8BBCE3#32
  | 87 => 0xBF06E14F#32
  | 88 => 0x3F4FE2AD#32
  | 89 => 0x403B2CCB#32
  | 90 => 0xBF58EEC2#32
  | 91 => 0xBE130749#32
  | 92 => 0x3FE3D66F#32
  | 93 => 0x3F996237#32
  | 94 => 0xBF348151#32
  | 95 => 0xBBC925A1#32
  | 96 => 0x3FD74A86#32
  | 97 => 0xBEF25E8F#32
  | 98 => 0xBFE97300#32
  | 99 => 0x3F5241A4#32
  | 100 => 0xBE944605#32
  | 101 => 0xBF00E4CF#32
  | 102 => 0x3EEF70B1#32
  | 103 => 0xBFB1F46C#32
  | 104 => 0x3F548BF7#32
  | 105 => 0x3F386E32#32
  | 106 => 0xBD9C9F23#32
  | 107 => 0xBF05C9E4#32
  | 108 => 0xBF8AAEB3#32
  | 109 => 0x3FA75724#32
  | 110 => 0x3F971D2E#32
  | 111 => 0x4039FD37#32
  | 112 => 0x3EDFA44C#32
  | 113 => 0x3D9EF771#32
  | 114 => 0x3FAC10DA#32
  | 115 => 0xBE444834#32
  | 116 => 0x3F910873#32
  | 117 => 0xBC67824D#32
  | 118 => 0x3FF53B19#32
  | 119 => 0x3FA05DC9#32
  | 120 => 0x3FB5F711#32
  | 121 => 0x3E5EBDAB#32
  | 122 => 0x3D2155D5#32
  | 123 => 0x3FAA8452#32
  | 124 => 0x3F9F1137#32
  | 125 => 0xBF2AF6A7#32
  | 126 => 0x4080C5E4#32
  | 127 => 0x4026019A#32
  | _ => 0#32

noncomputable abbrev lit0t0_773 (i : Nat) : BitVec 32 := match i % 128 with
  | 0 => 0xBD11BDAB#32
  | 1 => 0xBDDD7B3D#32
  | 2 => 0x3F2A956D#32
  | 3 => 0x3D37C06B#32
  | 4 => 0x3F13DDA5#32
  | 5 => 0x3FC5A1E3#32
  | 6 => 0x4082AA89#32
  | 7 => 0x3FE52FA8#32
  | 8 => 0x3FF50B04#32
  | 9 => 0x40119CAA#32
  | 10 => 0xBF107D5D#32
  | 11 => 0x3FA35F0C#32
  | 12 => 0x4043D13C#32
  | 13 => 0x404943A3#32
  | 14 => 0x40018C2D#32
  | 15 => 0xBF966B6B#32
  | 16 => 0xBF6DB87E#32
  | 17 => 0xBF9E528C#32
  | 18 => 0xBEDA24A7#32
  | 19 => 0x3F456CDE#32
  | 20 => 0x3FB47CC3#32
  | 21 => 0x3FCE27C9#32
  | 22 => 0x3E56327E#32
  | 23 => 0x3FF49E22#32
  | 24 => 0x3EA6B50C#32
  | 25 => 0x3FC2F807#32
  | 26 => 0x3FA16E2B#32
  | 27 => 0x3F369B1E#32
  | 28 => 0xBDE914FD#32
  | 29 => 0x3EF50DCE#32
  | 30 => 0x3F1DBFC7#32
  | 31 => 0xBDAEF026#32
  | 32 => 0x40461F3B#32
  | 33 => 0x3F84F118#32
  | 34 => 0x3F6B2581#32
  | 35 => 0x3FD30425#32
  | 36 => 0x3F58D1BD#32
  | 37 => 0xBF85ACC1#32
  | 38 => 0x3FA03073#32
  | 39 => 0xBF022972#32
  | 40 => 0x404F23DA#32
  | 41 => 0x3FCF3564#32
  | 42 => 0x3F60A526#32
  | 43 => 0xBF025CFF#32
  | 44 => 0x3C875046#32
  | 45 => 0xBE313B8D#32
  | 46 => 0xBEEA580C#32
  | 47 => 0xBF4241A2#32
  | 48 => 0xBF13B860#32
  | 49 => 0x3F0A2AB9#32
  | 50 => 0x3E9FC48A#32
  | 51 => 0x3F51D229#32
  | 52 => 0xBF1B0FE1#32
  | 53 => 0x401EDE0B#32
  | 54 => 0x3CF1518C#32
  | 55 => 0x3F1D9200#32
  | 56 => 0xBFA67420#32
  | 57 => 0x3E7FA8C8#32
  | 58 => 0x403F9B27#32
  | 59 => 0x4047774B#32
  | 60 => 0xBF2C124C#32
  | 61 => 0x3CDD37D0#32
  | 62 => 0xBEA60C3D#32
  | 63 => 0xBE8CCB64#32
  | 64 => 0x3F825F10#32
  | 65 => 0xBC1C6D3A#32
  | 66 => 0xBF44F1A0#32
  | 67 => 0xBCBC823A#32
  | 68 => 0x3F8DAB6C#32
  | 69 => 0xBD03D6B5#32
  | 70 => 0xBF1BC106#32
  | 71 => 0xBD3DF51E#32
  | 72 => 0x3FC62B18#32
  | 73 => 0x3E6551D7#32
  | 74 => 0x3E481230#32
  | 75 => 0x3F4DC539#32
  | 76 => 0x3FBA0BE2#32
  | 77 => 0x3F06BF52#32
  | 78 => 0x3F65DBCA#32
  | 79 => 0x3FF22E3E#32
  | 80 => 0x3FAE4AA3#32
  | 81 => 0x3F402472#32
  | 82 => 0xBD1CA552#32
  | 83 => 0x3F926656#32
  | 84 => 0x3FC52F31#32
  | 85 => 0x3F5DB6EE#32
  | 86 => 0x3EEB1D94#32
  | 87 => 0x3F851F17#32
  | 88 => 0x3E35BC9D#32
  | 89 => 0x3FC4FD8D#32
  | 90 => 0x3EC7FCF4#32
  | 91 => 0xBE6E3494#32
  | 92 => 0x3F35A306#32
  | 93 => 0xBF681E86#32
  | 94 => 0xBEADE71D#32
  | 95 => 0xBF61DF57#32
  | 96 => 0xBEADF1B7#32
  | 97 => 0xBECD70B4#32
  | 98 => 0x401BA211#32
  | 99 => 0x3FC502C4#32
  | 100 => 0x3EDFA433#32
  | 101 => 0xBD47DE38#32
  | 102 => 0xBE3BFB30#32
  | 103 => 0x4034ABAB#32
  | 104 => 0x3F6CB2DA#32
  | 105 => 0x3F1AF0DE#32
  | 106 => 0x3FA77A38#32
  | 107 => 0x3ECCEE9B#32
  | 108 => 0x3F06257F#32
  | 109 => 0xBF0C4AAB#32
  | 110 => 0xBE629C0C#32
  | 111 => 0x3F568390#32
  | 112 => 0x3FCD96B3#32
  | 113 => 0x3EEB63A3#32
  | 114 => 0xBE21EF6F#32
  | 115 => 0xBF4E3131#32
  | 116 => 0xBF445194#32
  | 117 => 0xBE072762#32
  | 118 => 0xBF1A76F6#32
  | 119 => 0xBF849618#32
  | 120 => 0xBF3D0742#32
  | 121 => 0x3F8FF247#32
  | 122 => 0xBE59B186#32
  | 123 => 0xBF72F66E#32
  | 124 => 0x3EE8EE10#32
  | 125 => 0x3EC52081#32
  | 126 => 0xBD3FAA46#32
  | 127 => 0x4036F275#32
  | _ => 0#32

noncomputable abbrev lit0t0_774 (i : Nat) : BitVec 32 := match i % 128 with
  | 0 => 0xBF4989CA#32
  | 1 => 0x3FD33570#32
  | 2 => 0xBF269C80#32
  | 3 => 0x3F1B129C#32
  | 4 => 0x3E797C4A#32
  | 5 => 0x3F5987E7#32
  | 6 => 0xBF19655F#32
  | 7 => 0x3F7A5060#32
  | 8 => 0x3EB3F6DF#32
  | 9 => 0xBEB68D1A#32
  | 10 => 0xBF09966E#32
  | 11 => 0x3F12A306#32
  | 12 => 0x3F6E3AD8#32
  | 13 => 0x3DBD35AC#32
  | 14 => 0x40012E06#32
  | 15 => 0xBF82118E#32
  | 16 => 0xBE423892#32
  | 17 => 0xBE7F636B#32
  | 18 => 0xBFC663B0#32
  | 19 => 0x3FE49D40#32
  | 20 => 0x3F5014CE#32
  | 21 => 0x402A09F9#32
  | 22 => 0x3D166918#32
  | 23 => 0x3F129836#32
  | 24 => 0x3F52EC18#32
  | 25 => 0x4024F425#32
  | 26 => 0x4033557C#32
  | 27 => 0x3E467AEA#32
  | 28 => 0xBEBEFEBA#32
  | 29 => 0x3E85B0C7#32
  | 30 => 0x3F1AE161#32
  | 31 => 0x3F156F82#32
  | 32 => 0x3FF7381D#32
  | 33 => 0xBF797469#32
  | 34 => 0x3F6A37C5#32
  | 35 => 0x3CD8E249#32
  | 36 => 0x3F707D4E#32
  | 37 => 0xBFA7944E#32
  | 38 => 0xBF2D9AA0#32
  | 39 => 0x3DAC5B65#32
  | 40 => 0x3FAC696F#32
  | 41 => 0x3F7209A4#32
  | 42 => 0xBF0E065E#32
  | 43 => 0xBDEB2C10#32
  | 44 => 0xBFCC8388#32
  | 45 => 0x3FFBCC69#32
  | 46 => 0x3F506C46#32
  | 47 => 0x3F8650C8#32
  | 48 => 0x3E004A01#32
  | 49 => 0x40066FEE#32
  | 50 => 0xBE7C8840#32
  | 51 => 0x406A40F8#32
  | 52 => 0x3D0AFDD0#32
  | 53 => 0x3ECD80D5#32
  | 54 => 0x40070D68#32
  | 55 => 0x3F037262#32
  | 56 => 0x40298ACA#32
  | 57 => 0x3E0D8376#32
  | 58 => 0xBE8A9645#32
  | 59 => 0xBE0C5B4F#32
  | 60 => 0x3F9F05C7#32
  | 61 => 0xBFAD1576#32
  | 62 => 0xBDDB50A1#32
  | 63 => 0xBED814D3#32
  | 64 => 0x3FD99610#32
  | 65 => 0xBF355006#32
  | 66 => 0xBE9926A9#32
  | 67 => 0x3EFB5446#32
  | 68 => 0xBCEC6F15#32
  | 69 => 0xBF26FE35#32
  | 70 => 0x3FA37F84#32
  | 71 => 0x3EFACFC3#32
  | 72 => 0xBDB64E08#32
  | 73 => 0x3FA03109#32
  | 74 => 0xBE726345#32
  | 75 => 0xBE0DCC55#32
  | 76 => 0xBE412AA0#32
  | 77 => 0x3E492DB1#32
  | 78 => 0x401FBEB5#32
  | 79 => 0x3FA4161F#32
  | 80 => 0xBDAA1464#32
  | 81 => 0xBF8920BD#32
  | 82 => 0x3FBD9F7A#32
  | 83 => 0xBE885D59#32
  | 84 => 0xBFD0800F#32
  | 85 => 0x3FF642F1#32
  | 86 => 0x4034767E#32
  | 87 => 0x3E7FB345#32
  | 88 => 0x3FA27346#32
  | 89 => 0x3E89E045#32
  | 90 => 0x3F86ABB2#32
  | 91 => 0xBF4BBEEA#32
  | 92 => 0xBF12E744#32
  | 93 => 0xBE00D451#32
  | 94 => 0xBF753962#32
  | 95 => 0x3F569D0A#32
  | 96 => 0x3F59986A#32
  | 97 => 0x3F0F3898#32
  | 98 => 0x3C0C5E3E#32
  | 99 => 0x3F9DCA52#32
  | 100 => 0xBF102F26#32
  | 101 => 0xBEF27A87#32
  | 102 => 0xBEBD6195#32
  | 103 => 0x3FA616CE#32
  | 104 => 0xBF424ECB#32
  | 105 => 0xBE87FF6E#32
  | 106 => 0x3EC32658#32
  | 107 => 0xBE62EB82#32
  | 108 => 0x40059E64#32
  | 109 => 0xBE5CC97B#32
  | 110 => 0xBDD9260D#32
  | 111 => 0xBF006F8A#32
  | 112 => 0xBD48CBB1#32
  | 113 => 0xBF85DA6F#32
  | 114 => 0xBF93D68A#32
  | 115 => 0xBF41AFB2#32
  | 116 => 0x3F4725F0#32
  | 117 => 0x3F61386A#32
  | 118 => 0xBF0EE28D#32
  | 119 => 0x3F6D656D#32
  | 120 => 0x4000304E#32
  | 121 => 0xBF077164#32
  | 122 => 0x4022B9E7#32
  | 123 => 0x3F8E9688#32
  | 124 => 0xBF90EA88#32
  | 125 => 0x40261CB8#32
  | 126 => 0x401F69C0#32
  | 127 => 0x400B3DA1#32
  | _ => 0#32

noncomputable abbrev lit0t0_775 (i : Nat) : BitVec 32 := match i % 128 with
  | 0 => 0x3EC04E20#32
  | 1 => 0x401CE210#32
  | 2 => 0x4018CC43#32
  | 3 => 0x3E2F7FDC#32
  | 4 => 0x3E32D9FB#32
  | 5 => 0xBF0D48F8#32
  | 6 => 0x3FBFF5E8#32
  | 7 => 0xBF9A2527#32
  | 8 => 0x3EB86133#32
  | 9 => 0xBFBDA29A#32
  | 10 => 0xBE8B7E18#32
  | 11 => 0x3F984532#32
  | 12 => 0xBF3ED9B0#32
  | 13 => 0x3F9B4C91#32
  | 14 => 0x3FB1797D#32
  | 15 => 0xBE21EA19#32
  | 16 => 0x401EB6E6#32
  | 17 => 0x3ECC25EB#32
  | 18 => 0xBF927512#32
  | 19 => 0x3F94F52F#32
  | 20 => 0x3FEA7EA9#32
  | 21 => 0x3FE31089#32
  | 22 => 0x409B526B#32
  | 23 => 0x4077DA5B#32
  | 24 => 0xBF4798E4#32
  | 25 => 0x3DC5A086#32
  | 26 => 0x3FF16002#32
  | 27 => 0x3EF88763#32
  | 28 => 0xBF270DE4#32
  | 29 => 0x3F02F550#32
  | 30 => 0xBF56558A#32
  | 31 => 0x3DBD0E9B#32
  | 32 => 0xBF43FE2F#32
  | 33 => 0x3E6C591A#32
  | 34 => 0x3F7CB9DA#32
  | 35 => 0x40197966#32
  | 36 => 0xBF273B3D#32
  | 37 => 0x40078306#32
  | 38 => 0x3F5C0986#32
  | 39 => 0x3F90D02E#32
  | 40 => 0x3ED9A3B8#32
  | 41 => 0x4012CA27#32
  | 42 => 0x3F90D3A3#32
  | 43 => 0x3F46FD6C#32
  | 44 => 0xBF2F34A5#32
  | 45 => 0x3FEBED3B#32
  | 46 => 0xBC883CDF#32
  | 47 => 0x3FB428D5#32
  | 48 => 0x3FF6A0D2#32
  | 49 => 0x3F651BBC#32
  | 50 => 0x406DA2E6#32
  | 51 => 0xBE9CAAB2#32
  | 52 => 0x3F3D75AF#32
  | 53 => 0xBF19C5F1#32
  | 54 => 0xBEB05E68#32
  | 55 => 0xBF057006#32
  | 56 => 0xBDFD85A5#32
  | 57 => 0x401E734B#32
  | 58 => 0xBECC34A9#32
  | 59 => 0xBECE8BE8#32
  | 60 => 0x3F905C9F#32
  | 61 => 0x3EB8E09C#32
  | 62 => 0x409395F9#32
  | 63 => 0x3F032345#32
  | 64 => 0x3FD3D065#32
  | 65 => 0x3C264B50#32
  | 66 => 0x405D8529#32
  | 67 => 0x3EF987D1#32
  | 68 => 0x3EA97CC1#32
  | 69 => 0x409404A6#32
  | 70 => 0xBF776FC9#32
  | 71 => 0xBF8365B2#32
  | 72 => 0x3FCD91FD#32
  | 73 => 0x3EA01420#32
  | 74 => 0xBE36F7FE#32
  | 75 => 0x3F7A2339#32
  | 76 => 0x3F237712#32
  | 77 => 0xBF0EA566#32
  | 78 => 0x3ABA79F1#32
  | 79 => 0xBEA8E0C8#32
  | 80 => 0x405590BE#32
  | 81 => 0x3F8966CD#32
  | 82 => 0x3E27D9B6#32
  | 83 => 0xBEFCB664#32
  | 84 => 0xBF069746#32
  | 85 => 0x3F8EA358#32
  | 86 => 0x3EE6EA22#32
  | 87 => 0xBF06E472#32
  | 88 => 0x3EC98EA6#32
  | 89 => 0x3EF7ABD6#32
  | 90 => 0x408B94C4#32
  | 91 => 0x3E8055BF#32
  | 92 => 0x3D46FF96#32
  | 93 => 0xBEDBA572#32
  | 94 => 0xBFA1D0E6#32
  | 95 => 0x3E57F5EB#32
  | 96 => 0x404564AC#32
  | 97 => 0x3FF040FE#32
  | 98 => 0x3F8EBF38#32
  | 99 => 0xBF593ED5#32
  | 100 => 0xBECF7A01#32
  | 101 => 0x3F8D674E#32
  | 102 => 0x3FF7AD6E#32
  | 103 => 0x3E42EE88#32
  | 104 => 0xBE4F3D56#32
  | 105 => 0x3F831E65#32
  | 106 => 0xBEF77C78#32
  | 107 => 0x3F010CC0#32
  | 108 => 0xBEF3528A#32
  | 109 => 0x4009BA43#32
  | 110 => 0xBF325C96#32
  | 111 => 0xBF1A9D57#32
  | 112 => 0x3F8790B3#32
  | 113 => 0xBF85FC9B#32
  | 114 => 0xBF88159A#32
  | 115 => 0xBF15DA8D#32
  | 116 => 0xBE7B87BD#32
  | 117 => 0xBE76601D#32
  | 118 => 0xBF21CA94#32
  | 119 => 0x3CAEFD11#32
  | 120 => 0x3F0C9105#32
  | 121 => 0x408B44F6#32
  | 122 => 0x3F046B25#32
  | 123 => 0xBE272D64#32
  | 124 => 0xBF0707BB#32
  | 125 => 0x3F50AE74#32
  | 126 => 0x3F997BF0#32
  | 127 => 0xBF76087F#32
  | _ => 0#32

noncomputable abbrev lit0t0_776 (i : Nat) : BitVec 32 := match i % 128 with
  | 0 => 0xBF828C08#32
  | 1 => 0x3F867030#32
  | 2 => 0x3F450BB6#32
  | 3 => 0x3D0517FD#32
  | 4 => 0xBD97B089#32
  | 5 => 0x3F1D08F2#32
  | 6 => 0xBE1971D8#32
  | 7 => 0xBF375EB5#32
  | 8 => 0x3F44069E#32
  | 9 => 0x3F4752BF#32
  | 10 => 0x3F716570#32
  | 11 => 0x4014EAF8#32
  | 12 => 0xBD4B4D40#32
  | 13 => 0x3F950CF2#32
  | 14 => 0xBF863197#32
  | 15 => 0xBF01B36C#32
  | 16 => 0x4084A479#32
  | 17 => 0x3E3F03F4#32
  | 18 => 0x3F6BCDF3#32
  | 19 => 0xBF76BDF0#32
  | 20 => 0xBF1B263E#32
  | 21 => 0x3FB1E990#32
  | 22 => 0x3FCCCBF0#32
  | 23 => 0x3E5DFDEE#32
  | 24 => 0x3EDF7A08#32
  | 25 => 0x3EB0E927#32
  | 26 => 0x3FA040AE#32
  | 27 => 0xBEB92B90#32
  | 28 => 0x3F4D2A9A#32
  | 29 => 0xBE1BB786#32
  | 30 => 0xBBCF43D6#32
  | 31 => 0x3F4889A2#32
  | 32 => 0xBF90F2DB#32
  | 33 => 0x408FEE01#32
  | 34 => 0x3FA657E4#32
  | 35 => 0x3ED810DE#32
  | 36 => 0x3D4DD425#32
  | 37 => 0x3F22AD26#32
  | 38 => 0x3FA9AF82#32
  | 39 => 0x3E2863B8#32
  | 40 => 0xBF2F6BCE#32
  | 41 => 0xBE2BD255#32
  | 42 => 0xBE35EDA7#32
  | 43 => 0x3ED5C0AA#32
  | 44 => 0x3F09DA94#32
  | 45 => 0x3F94065F#32
  | 46 => 0x3FB731EF#32
  | 47 => 0xBEFEA011#32
  | 48 => 0x3F934F56#32
  | 49 => 0xBE8E102F#32
  | 50 => 0xBE8F8631#32
  | 51 => 0x3D728FAC#32
  | 52 => 0x40381D82#32
  | 53 => 0x3FC39914#32
  | 54 => 0xBE940AE8#32
  | 55 => 0xBF0AD2AA#32
  | 56 => 0x3E9142A2#32
  | 57 => 0x3F6B7572#32
  | 58 => 0x3EB2C9EA#32
  | 59 => 0xBE9116C8#32
  | 60 => 0x3F7DA8B2#32
  | 61 => 0xBFB3C267#32
  | 62 => 0xBEBF6F6C#32
  | 63 => 0x3FD43F7E#32
  | 64 => 0x3FB9C014#32
  | 65 => 0x3FC844AC#32
  | 66 => 0xBF98CFB4#32
  | 67 => 0x3E94FFE3#32
  | 68 => 0xBE970DDD#32
  | 69 => 0x3F1CD3FE#32
  | 70 => 0x4046135A#32
  | 71 => 0x3F3A8247#32
  | 72 => 0x3FF93790#32
  | 73 => 0x3F3166D6#32
  | 74 => 0xBF8CAC21#32
  | 75 => 0x3FB22288#32
  | 76 => 0x3E645DF9#32
  | 77 => 0x3E951394#32
  | 78 => 0xBF382922#32
  | 79 => 0x3D4798BC#32
  | 80 => 0x4000B7EA#32
  | 81 => 0x3EA793C2#32
  | 82 => 0xBC937A9B#32
  | 83 => 0xBD3A9C4D#32
  | 84 => 0x3FBD9721#32
  | 85 => 0xBF0306F1#32
  | 86 => 0xBDB68751#32
  | 87 => 0x3FBE680A#32
  | 88 => 0x3EE2685E#32
  | 89 => 0x3F1A36BA#32
  | 90 => 0x40063535#32
  | 91 => 0x3EAD9A93#32
  | 92 => 0x3FC1C27E#32
  | 93 => 0xBED2A260#32
  | 94 => 0xBF4C90C6#32
  | 95 => 0x3F91026D#32
  | 96 => 0xBF2A52E6#32
  | 97 => 0xBF514F62#32
  | 98 => 0xBDFF2442#32
  | 99 => 0xBF321816#32
  | 100 => 0x3FA9C969#32
  | 101 => 0xBF473C9D#32
  | 102 => 0x3F9A1A03#32
  | 103 => 0x3F9F2B40#32
  | 104 => 0x3FB73A03#32
  | 105 => 0x3EFCAA92#32
  | 106 => 0xBEE2515E#32
  | 107 => 0x3F9FF624#32
  | 108 => 0x3DB5B9A9#32
  | 109 => 0x3F2891B9#32
  | 110 => 0xBEAB5D6A#32
  | 111 => 0x3F2ED4A4#32
  | 112 => 0x3F890586#32
  | 113 => 0xBF4088DA#32
  | 114 => 0x3FDDE74A#32
  | 115 => 0x3F83CA7E#32
  | 116 => 0x3F9EE970#32
  | 117 => 0x40202320#32
  | 118 => 0xBF982F26#32
  | 119 => 0xBD68101A#32
  | 120 => 0x4046A843#32
  | 121 => 0xBF641C36#32
  | 122 => 0xBE2DC7E3#32
  | 123 => 0x3FABE0F2#32
  | 124 => 0x3FD0E96E#32
  | 125 => 0x3FD286D6#32
  | 126 => 0x3FDB37A3#32
  | 127 => 0x3F7ED09A#32
  | _ => 0#32

noncomputable abbrev lit0t0_777 (i : Nat) : BitVec 32 := match i % 128 with
  | 0 => 0x40145168#32
  | 1 => 0xBD39D8C5#32
  | 2 => 0xBF134C8F#32
  | 3 => 0x3FD30B8E#32
  | 4 => 0xBEFF7CA5#32
  | 5 => 0x3F140EA4#32
  | 6 => 0x3E9DE823#32
  | 7 => 0x3ED4046B#32
  | 8 => 0xBEA14A8D#32
  | 9 => 0xBF8AF640#32
  | 10 => 0xBF318B07#32
  | 11 => 0xBCC5D025#32
  | 12 => 0x3F890550#32
  | 13 => 0xBE479E0C#32
  | 14 => 0x3EAA49FC#32
  | 15 => 0x3F169530#32
  | 16 => 0x403129A1#32
  | 17 => 0xBE173851#32
  | 18 => 0x3FBC0803#32
  | 19 => 0xBEDAB672#32
  | 20 => 0x408E8D96#32
  | 21 => 0x3F59AA7E#32
  | 22 => 0x3F58D458#32
  | 23 => 0x3F44D59A#32
  | 24 => 0xBDBA4F86#32
  | 25 => 0xBECA850F#32
  | 26 => 0x3F5B5BFD#32
  | 27 => 0xBE93A836#32
  | 28 => 0xBF056507#32
  | 29 => 0xBE40F71F#32
  | 30 => 0xBFA01FB8#32
  | 31 => 0x3FDE4454#32
  | 32 => 0xBE3DB7E1#32
  | 33 => 0x4038502E#32
  | 34 => 0xBE9AAA86#32
  | 35 => 0xBF1E7B76#32
  | 36 => 0x3E89951C#32
  | 37 => 0x3F43E103#32
  | 38 => 0x3F2EA1E7#32
  | 39 => 0x4016283A#32
  | 40 => 0xBF5E3560#32
  | 41 => 0xBEC13B93#32
  | 42 => 0x3FC41D3D#32
  | 43 => 0x3ECEA6C1#32
  | 44 => 0x3EF4C58E#32
  | 45 => 0x3F93F1DD#32
  | 46 => 0x3FFCD159#32
  | 47 => 0x3ED18B1D#32
  | 48 => 0x3F7195B8#32
  | 49 => 0x401B8040#32
  | 50 => 0x3EADE87A#32
  | 51 => 0xBF0C8930#32
  | 52 => 0x3F19DB5A#32
  | 53 => 0x3FF97037#32
  | 54 => 0x3F41A07A#32
  | 55 => 0x3D389F7A#32
  | 56 => 0xBE2F6CCA#32
  | 57 => 0x3D5FDDFF#32
  | 58 => 0x3F86D2CC#32
  | 59 => 0x3F157EFF#32
  | 60 => 0xBF307C91#32
  | 61 => 0xBF833FCA#32
  | 62 => 0xBFB09D99#32
  | 63 => 0xBF9F98E7#32
  | 64 => 0x40094ABE#32
  | 65 => 0x3F70340D#32
  | 66 => 0x3E530EAA#32
  | 67 => 0xBE361FE8#32
  | 68 => 0x3D7EEE0D#32
  | 69 => 0xBF426C60#32
  | 70 => 0xBEFE1DC8#32
  | 71 => 0x3E8B9946#32
  | 72 => 0x3EFC0EE6#32
  | 73 => 0x3F762994#32
  | 74 => 0xBF720968#32
  | 75 => 0xBF9E8FFD#32
  | 76 => 0x3FEAB412#32
  | 77 => 0xBF0F03D8#32
  | 78 => 0xBF871F52#32
  | 79 => 0x3F326FE9#32
  | 80 => 0x3FA27F13#32
  | 81 => 0xBF53B969#32
  | 82 => 0x3FC8E1A3#32
  | 83 => 0x3FCD301D#32
  | 84 => 0xBF017267#32
  | 85 => 0xBEECC7BA#32
  | 86 => 0xBDE5F46D#32
  | 87 => 0x3F02F332#32
  | 88 => 0x3FE56EA1#32
  | 89 => 0xBFC5C21B#32
  | 90 => 0xBFD06B42#32
  | 91 => 0x3FEA4EAB#32
  | 92 => 0xBF00D7CC#32
  | 93 => 0x3F568CEA#32
  | 94 => 0x3FF87F16#32
  | 95 => 0x3F468AC4#32
  | 96 => 0x3F0CAB46#32
  | 97 => 0x4007CC5E#32
  | 98 => 0x3FB7640C#32
  | 99 => 0xBE526565#32
  | 100 => 0x3F52D499#32
  | 101 => 0x3FB6B4B2#32
  | 102 => 0xBF3C6ED6#32
  | 103 => 0x3E434338#32
  | 104 => 0xBE9F769B#32
  | 105 => 0xBF6154A4#32
  | 106 => 0x403EF76E#32
  | 107 => 0x3FCB4289#32
  | 108 => 0x3F35E222#32
  | 109 => 0x3E7C544B#32
  | 110 => 0x3E8155B4#32
  | 111 => 0x40206DB7#32
  | 112 => 0x3F3DDB65#32
  | 113 => 0xBECBB93E#32
  | 114 => 0x41086532#32
  | 115 => 0x3F905362#32
  | 116 => 0xBE31EF02#32
  | 117 => 0xBFB48A7C#32
  | 118 => 0x3EC0BCE8#32
  | 119 => 0xBEE739C8#32
  | 120 => 0x3FB6D385#32
  | 121 => 0x3EE1D527#32
  | 122 => 0x3F072933#32
  | 123 => 0xBC8BE829#32
  | 124 => 0xBF08B126#32
  | 125 => 0x3F80DD9E#32
  | 126 => 0x3E3FCA27#32
  | 127 => 0x3F8122AA#32
  | _ => 0#32

noncomputable abbrev lit0t0_778 (i : Nat) : BitVec 32 := match i % 128 with
  | 0 => 0x3F070BD7#32
  | 1 => 0xBED5F3F7#32
  | 2 => 0x3FBC6502#32
  | 3 => 0x3F4E39E9#32
  | 4 => 0xBF310161#32
  | 5 => 0xBE5B6D23#32
  | 6 => 0x40132715#32
  | 7 => 0xBECA357D#32
  | 8 => 0xBF29AFC2#32
  | 9 => 0x3D8A6999#32
  | 10 => 0xBF12BFBF#32
  | 11 => 0x404A4719#32
  | 12 => 0xBE1026F1#32
  | 13 => 0xBD213916#32
  | 14 => 0x4064D4E7#32
  | 15 => 0x3FABA898#32
  | 16 => 0x3FB04C3F#32
  | 17 => 0x40015097#32
  | 18 => 0x3FBC3367#32
  | 19 => 0xBDA50725#32
  | 20 => 0x3F614A5A#32
  | 21 => 0x3FE03071#32
  | 22 => 0x4006AC99#32
  | 23 => 0x409C5604#32
  | 24 => 0x4007A83C#32
  | 25 => 0x3F96AB5C#32
  | 26 => 0xBE905E0D#32
  | 27 => 0x3F071A4B#32
  | 28 => 0xBEC0D29E#32
  | 29 => 0x3DA721A5#32
  | 30 => 0x403C4C31#32
  | 31 => 0x3DD8F7E8#32
  | 32 => 0xBF2B81A6#32
  | 33 => 0x3F48715D#32
  | 34 => 0x3F390F68#32
  | 35 => 0xBE90AEC5#32
  | 36 => 0xBFA5D351#32
  | 37 => 0x3FE9F3B6#32
  | 38 => 0x3F728CD6#32
  | 39 => 0x3FC8885B#32
  | 40 => 0x3D618449#32
  | 41 => 0x3F2FC088#32
  | 42 => 0xBEBF16EA#32
  | 43 => 0xBF9ABA75#32
  | 44 => 0xBDF10CC9#32
  | 45 => 0x3EEA2D6E#32
  | 46 => 0xBF14647D#32
  | 47 => 0x407514C8#32
  | 48 => 0x3E76BEE6#32
  | 49 => 0xBDC87A0E#32
  | 50 => 0x40069072#32
  | 51 => 0x3F61CEC8#32
  | 52 => 0x3F6504BF#32
  | 53 => 0x3F5017F6#32
  | 54 => 0xBE12AA1F#32
  | 55 => 0x40112978#32
  | 56 => 0x3EC3CEC3#32
  | 57 => 0x40043F24#32
  | 58 => 0x3F951AC1#32
  | 59 => 0x3EA8776C#32
  | 60 => 0x3F410C15#32
  | 61 => 0x3F83108F#32
  | 62 => 0x3F5D5432#32
  | 63 => 0xBD445F70#32
  | 64 => 0x3F574129#32
  | 65 => 0xBE3A2673#32
  | 66 => 0x3F602ABE#32
  | 67 => 0xBE16BD4D#32
  | 68 => 0x3FE94A96#32
  | 69 => 0xBEDC60CB#32
  | 70 => 0x3FF56F74#32
  | 71 => 0x40376744#32
  | 72 => 0xBD9B1652#32
  | 73 => 0xBE878B70#32
  | 74 => 0xBE8353FC#32
  | 75 => 0x4043363A#32
  | 76 => 0xBE09A960#32
  | 77 => 0x3F5CD59F#32
  | 78 => 0x3E649D86#32
  | 79 => 0xBFAB9972#32
  | 80 => 0x400B7224#32
  | 81 => 0xBEAD0E59#32
  | 82 => 0x3F43383E#32
  | 83 => 0x3F7C156E#32
  | 84 => 0xBF597483#32
  | 85 => 0x3FC099EB#32
  | 86 => 0x3DC2BECA#32
  | 87 => 0x3E9E6017#32
  | 88 => 0x3E6C1105#32
  | 89 => 0xBE309B0B#32
  | 90 => 0xBEF94DF7#32
  | 91 => 0x3E5BD368#32
  | 92 => 0x3FAB32F0#32
  | 93 => 0x3F73D772#32
  | 94 => 0x3F42B30C#32
  | 95 => 0x4092643F#32
  | 96 => 0x3F96633C#32
  | 97 => 0xBF7F74B2#32
  | 98 => 0xBF3BF3ED#32
  | 99 => 0x3FC0A67B#32
  | 100 => 0x3EE68E38#32
  | 101 => 0x3EC06F14#32
  | 102 => 0x400822F0#32
  | 103 => 0x3FC38F5A#32
  | 104 => 0x3FAAEEC6#32
  | 105 => 0x3E2C298E#32
  | 106 => 0xBD898E1C#32
  | 107 => 0x4060C55E#32
  | 108 => 0x3F2342E5#32
  | 109 => 0xBFA35DE7#32
  | 110 => 0x3EE1447B#32
  | 111 => 0x3F68F841#32
  | 112 => 0x3F3C7F5E#32
  | 113 => 0x3FC6D3B3#32
  | 114 => 0x40624902#32
  | 115 => 0x3FE10F0D#32
  | 116 => 0x3F447E3C#32
  | 117 => 0xBEBA272D#32
  | 118 => 0x3F7D4BF2#32
  | 119 => 0x40075A7C#32
  | 120 => 0x3FB791D4#32
  | 121 => 0xBF1697BF#32
  | 122 => 0x3E6ECC2D#32
  | 123 => 0xBE05F6EB#32
  | 124 => 0x3F8822CA#32
  | 125 => 0xBF32FBA3#32
  | 126 => 0xBE964F4B#32
  | 127 => 0x3F25D955#32
  | _ => 0#32

noncomputable abbrev lit0t0_779 (i : Nat) : BitVec 32 := match i % 128 with
  | 0 => 0xBF1C81B1#32
  | 1 => 0x3F46DD8F#32
  | 2 => 0x40364F73#32
  | 3 => 0x3FF00822#32
  | 4 => 0xBEF3F262#32
  | 5 => 0x3F65D011#32
  | 6 => 0xBF004281#32
  | 7 => 0xBF412E6C#32
  | 8 => 0xBF802970#32
  | 9 => 0x3F419060#32
  | 10 => 0xBFB76F61#32
  | 11 => 0x3FA4F6D4#32
  | 12 => 0xBFA929A2#32
  | 13 => 0x3DA0EDCE#32
  | 14 => 0x4024088E#32
  | 15 => 0xBEECAB14#32
  | 16 => 0x3F8A8710#32
  | 17 => 0x402C8E71#32
  | 18 => 0x3ED4A788#32
  | 19 => 0xBF9D9C4F#32
  | 20 => 0x3EE885FE#32
  | 21 => 0xBE669660#32
  | 22 => 0x3F4012FE#32
  | 23 => 0xBF5D8F37#32
  | 24 => 0x3FCA828D#32
  | 25 => 0xBEA95BBA#32
  | 26 => 0x408FF5FD#32
  | 27 => 0x3FD16584#32
  | 28 => 0x40450CE2#32
  | 29 => 0xBF6E9F47#32
  | 30 => 0x3FB0A83C#32
  | 31 => 0x3F9A33C8#32
  | 32 => 0xBE9F32F8#32
  | 33 => 0x3FBE8277#32
  | 34 => 0xBEAB7DCC#32
  | 35 => 0x3F9F2092#32
  | 36 => 0xBF2665C0#32
  | 37 => 0x4000E75F#32
  | 38 => 0xBF4C2FA0#32
  | 39 => 0xBF357E8F#32
  | 40 => 0xBF7B1342#32
  | 41 => 0xBEB2DDBA#32
  | 42 => 0x3F9E0868#32
  | 43 => 0xBED1B9A0#32
  | 44 => 0x3FF1CDD6#32
  | 45 => 0x3E2D9932#32
  | 46 => 0x3EB4D8AD#32
  | 47 => 0x3ED77581#32
  | 48 => 0xBF961501#32
  | 49 => 0xBE1982DE#32
  | 50 => 0x40892C34#32
  | 51 => 0x3FF0A1E6#32
  | 52 => 0x400E716E#32
  | 53 => 0x3E15BA60#32
  | 54 => 0xBDB4C7B5#32
  | 55 => 0x3FDE30F2#32
  | 56 => 0x3F2414CD#32
  | 57 => 0x407FA465#32
  | 58 => 0x3ED44815#32
  | 59 => 0xBF0C8086#32
  | 60 => 0xBEED5CCF#32
  | 61 => 0xBE2B7EE1#32
  | 62 => 0x3FDAE787#32
  | 63 => 0xBDAB6423#32
  | 64 => 0xBE893A71#32
  | 65 => 0x3EA054AB#32
  | 66 => 0x3FD777AC#32
  | 67 => 0xBF94F682#32
  | 68 => 0x3C03701C#32
  | 69 => 0x3C059508#32
  | 70 => 0x3F3B6564#32
  | 71 => 0x3F8AA22C#32
  | 72 => 0x3F0C6B99#32
  | 73 => 0xBED0F752#32
  | 74 => 0x3FF9801F#32
  | 75 => 0x3F420FE2#32
  | 76 => 0xBF2FFA9A#32
  | 77 => 0xBF4F29B0#32
  | 78 => 0x40049467#32
  | 79 => 0x3ED88E13#32
  | 80 => 0x3DB94A49#32
  | 81 => 0xBF0781E6#32
  | 82 => 0xBF8C8E72#32
  | 83 => 0x3FED2D71#32
  | 84 => 0x3F0ABEEA#32
  | 85 => 0x3EEEE1EE#32
  | 86 => 0x40774D8D#32
  | 87 => 0xBF04B429#32
  | 88 => 0x3E74BCC9#32
  | 89 => 0x40017686#32
  | 90 => 0xBECE1101#32
  | 91 => 0xBDB1A976#32
  | 92 => 0x3F6E9E76#32
  | 93 => 0x3C9288A3#32
  | 94 => 0x3FB3BB46#32
  | 95 => 0x402B81D6#32
  | 96 => 0xBF728B74#32
  | 97 => 0x3E594DBF#32
  | 98 => 0x3F8D030A#32
  | 99 => 0xBDEB38C4#32
  | 100 => 0x3F850D37#32
  | 101 => 0xBF1AC08D#32
  | 102 => 0xBF0F24AF#32
  | 103 => 0xBE58FBCE#32
  | 104 => 0xBE74846D#32
  | 105 => 0xBE5DDF58#32
  | 106 => 0x3F1D66B3#32
  | 107 => 0xBDF82863#32
  | 108 => 0x402B6834#32
  | 109 => 0xBEE50B82#32
  | 110 => 0xBE8CDD32#32
  | 111 => 0xBF780CCC#32
  | 112 => 0xBF2187E6#32
  | 113 => 0xBF6D2653#32
  | 114 => 0xBF45F8E9#32
  | 115 => 0xBF34127C#32
  | 116 => 0xBF9609BA#32
  | 117 => 0x3FFCCB5C#32
  | 118 => 0x3FAB4368#32
  | 119 => 0x3F12B83B#32
  | 120 => 0xBF08E2EF#32
  | 121 => 0x3FFC0FAC#32
  | 122 => 0xBE93EAEB#32
  | 123 => 0xBE10DC4C#32
  | 124 => 0x4084E110#32
  | 125 => 0x3F3FE7DD#32
  | 126 => 0xBF09CE55#32
  | 127 => 0x3ED52D3D#32
  | _ => 0#32

noncomputable abbrev lit0t0_780 (i : Nat) : BitVec 32 := match i % 128 with
  | 0 => 0xBE095F4D#32
  | 1 => 0xBE947D7F#32
  | 2 => 0xBDEDBC4F#32
  | 3 => 0x3E8C4A0B#32
  | 4 => 0x3FB11130#32
  | 5 => 0xBF954D94#32
  | 6 => 0x3FEA2747#32
  | 7 => 0x3F216A3A#32
  | 8 => 0x3E386CF3#32
  | 9 => 0xBD8CBC22#32
  | 10 => 0x3F338B22#32
  | 11 => 0x3F35EF92#32
  | 12 => 0xBF09B402#32
  | 13 => 0x401BB62C#32
  | 14 => 0x3E6DAFC8#32
  | 15 => 0xBEE48444#32
  | 16 => 0xBEEF8890#32
  | 17 => 0x3F296646#32
  | 18 => 0xBF8DA62F#32
  | 19 => 0x4010736D#32
  | 20 => 0x3F5D8464#32
  | 21 => 0xBF771D56#32
  | 22 => 0x3F8EA4B7#32
  | 23 => 0x400744F7#32
  | 24 => 0xBF1F62A2#32
  | 25 => 0xBE8C6AC2#32
  | 26 => 0x3F85C9A0#32
  | 27 => 0x4067F7E8#32
  | 28 => 0x3E23604B#32
  | 29 => 0xBCE31584#32
  | 30 => 0x3FD77FBA#32
  | 31 => 0x3EBA97F3#32
  | 32 => 0x3F1F0765#32
  | 33 => 0xBFA12201#32
  | 34 => 0xBD87BBE7#32
  | 35 => 0x3D37A529#32
  | 36 => 0xBEB0B6DF#32
  | 37 => 0xBC66A8E3#32
  | 38 => 0xBF480A54#32
  | 39 => 0x3FB1E118#32
  | 40 => 0x4001C4AF#32
  | 41 => 0xBF597D7A#32
  | 42 => 0x3F3CF683#32
  | 43 => 0x3F2E9453#32
  | 44 => 0xBDDFB1B3#32
  | 45 => 0x3F2C30BD#32
  | 46 => 0xBF1BB078#32
  | 47 => 0xBFC88652#32
  | 48 => 0xBF8A79BC#32
  | 49 => 0x3F895286#32
  | 50 => 0x3FAF8668#32
  | 51 => 0xBF8D9EBE#32
  | 52 => 0xBD7FD5E0#32
  | 53 => 0x3F9DFA74#32
  | 54 => 0xBE66F775#32
  | 55 => 0x3F97F2FE#32
  | 56 => 0x3F0B400E#32
  | 57 => 0xBFB4B13F#32
  | 58 => 0xBEE3D718#32
  | 59 => 0x3F1FED08#32
  | 60 => 0x3F453C2F#32
  | 61 => 0xBEAA79C8#32
  | 62 => 0xBD2B97A4#32
  | 63 => 0xBED0AD62#32
  | 64 => 0x3FF04829#32
  | 65 => 0x3F7C0368#32
  | 66 => 0x3FB032AB#32
  | 67 => 0x409A8561#32
  | 68 => 0x3FF0C712#32
  | 69 => 0x3F28DA54#32
  | 70 => 0x3F6AEFA8#32
  | 71 => 0xBF0AB6B8#32
  | 72 => 0xBF622F70#32
  | 73 => 0xBE2B472E#32
  | 74 => 0xBF9A24EC#32
  | 75 => 0x3FCC4AC1#32
  | 76 => 0xBEF4B9DA#32
  | 77 => 0x3EE5E312#32
  | 78 => 0xBE4362EE#32
  | 79 => 0xBF28D910#32
  | 80 => 0xBFD2FCCF#32
  | 81 => 0x3EFCBBB8#32
  | 82 => 0xBF8A53CD#32
  | 83 => 0x3FD40F3E#32
  | 84 => 0xBE9A4540#32
  | 85 => 0x3E9A776F#32
  | 86 => 0x3FA63340#32
  | 87 => 0xBF3F681C#32
  | 88 => 0xBF457C12#32
  | 89 => 0x3E42038A#32
  | 90 => 0x3E0647C7#32
  | 91 => 0x3FB964A2#32
  | 92 => 0xBEF14C8D#32
  | 93 => 0xBF3DE9AE#32
  | 94 => 0x3FF4EFF8#32
  | 95 => 0x3F5F3859#32
  | 96 => 0xBF5A97C0#32
  | 97 => 0x40268B77#32
  | 98 => 0x4089AD96#32
  | 99 => 0x406764CA#32
  | 100 => 0x3ED0E546#32
  | 101 => 0x3FDC4948#32
  | 102 => 0xBDF115BC#32
  | 103 => 0x3FE376E4#32
  | 104 => 0x4061E32D#32
  | 105 => 0xBF1F1AE8#32
  | 106 => 0x3ECB08E3#32
  | 107 => 0x3F8B1760#32
  | 108 => 0x3DC424FD#32
  | 109 => 0x3F678740#32
  | 110 => 0x3DB3A1D2#32
  | 111 => 0x408CD94E#32
  | 112 => 0x3F3FD116#32
  | 113 => 0x400EB760#32
  | 114 => 0x3FA4BAF9#32
  | 115 => 0xBEA11827#32
  | 116 => 0xBDDBA3AC#32
  | 117 => 0x3FD3A900#32
  | 118 => 0xBF035AF9#32
  | 119 => 0xBF9FEAD8#32
  | 120 => 0xBF5E3141#32
  | 121 => 0x3F922618#32
  | 122 => 0xBF300161#32
  | 123 => 0x3F071AA6#32
  | 124 => 0xBEC816B2#32
  | 125 => 0xBD8EC575#32
  | 126 => 0xBDB942CB#32
  | 127 => 0xBF9B2C95#32
  | _ => 0#32

noncomputable abbrev lit0t0_781 (i : Nat) : BitVec 32 := match i % 128 with
  | 0 => 0x3F35D46A#32
  | 1 => 0xBEEE217E#32
  | 2 => 0x3F862136#32
  | 3 => 0x3EA0935D#32
  | 4 => 0x401ACF83#32
  | 5 => 0x3F371660#32
  | 6 => 0xBEDBA792#32
  | 7 => 0x3F2A0082#32
  | 8 => 0x3DC72965#32
  | 9 => 0x401A4FF1#32
  | 10 => 0x3E927346#32
  | 11 => 0x3E931B9D#32
  | 12 => 0xBE1142B6#32
  | 13 => 0xBF803DE6#32
  | 14 => 0xBEB0F4EB#32
  | 15 => 0x3E8797D2#32
  | 16 => 0x3FD840B9#32
  | 17 => 0xBF9C5FB2#32
  | 18 => 0xBF18CDC4#32
  | 19 => 0x3EAAFF55#32
  | 20 => 0xBF3A3B7C#32
  | 21 => 0xBF7E7FD2#32
  | 22 => 0x4009FAD2#32
  | 23 => 0xBCAD30C2#32
  | 24 => 0x3E9D276D#32
  | 25 => 0x3F6F2302#32
  | 26 => 0x3F8A10C8#32
  | 27 => 0xBAAEE21F#32
  | 28 => 0x3F745A56#32
  | 29 => 0x3F2DBAAD#32
  | 30 => 0x3FC22F3C#32
  | 31 => 0xBE3A8DB0#32
  | 32 => 0xBD4448AE#32
  | 33 => 0x3F02DF01#32
  | 34 => 0x3F9AC13A#32
  | 35 => 0xBCFFA1FB#32
  | 36 => 0x3F7399EE#32
  | 37 => 0x3F2A89AF#32
  | 38 => 0xBEEC125B#32
  | 39 => 0xBEF81A88#32
  | 40 => 0xBF9D1019#32
  | 41 => 0x403806B3#32
  | 42 => 0x3FB626FA#32
  | 43 => 0xBED3A760#32
  | 44 => 0xBE502CC0#32
  | 45 => 0x3FBA0E30#32
  | 46 => 0xBFAEC693#32
  | 47 => 0xBF012310#32
  | 48 => 0x3F73E874#32
  | 49 => 0xBF315FD8#32
  | 50 => 0xBF1081D4#32
  | 51 => 0x4016FFA5#32
  | 52 => 0x4018EC7A#32
  | 53 => 0x3F2F2C1A#32
  | 54 => 0xBF90CF21#32
  | 55 => 0x402B5280#32
  | 56 => 0x406AA535#32
  | 57 => 0xBF268209#32
  | 58 => 0x3FABBF16#32
  | 59 => 0xBF51F8A0#32
  | 60 => 0x3E2F27D5#32
  | 61 => 0x3F7A52C6#32
  | 62 => 0xBAB513F7#32
  | 63 => 0x4087D435#32
  | 64 => 0xBEBFCADC#32
  | 65 => 0x3ED9C202#32
  | 66 => 0x3D18CB64#32
  | 67 => 0xBEC9C905#32
  | 68 => 0x3F131C40#32
  | 69 => 0xBF0ABB6F#32
  | 70 => 0xBF52B9E8#32
  | 71 => 0xBEC04DDC#32
  | 72 => 0x3E8CFE2A#32
  | 73 => 0x3FB8E02F#32
  | 74 => 0xBF2E02FF#32
  | 75 => 0xBE529E90#32
  | 76 => 0xBE7FB0EB#32
  | 77 => 0xBEFD5F4C#32
  | 78 => 0xBEE7A22C#32
  | 79 => 0x3F98360A#32
  | 80 => 0xBF6E951A#32
  | 81 => 0x3FDE26E0#32
  | 82 => 0x3FC5864F#32
  | 83 => 0x3DA54510#32
  | 84 => 0x403F6316#32
  | 85 => 0xBED2237A#32
  | 86 => 0xBF47831B#32
  | 87 => 0x3F7D872D#32
  | 88 => 0x402F6C60#32
  | 89 => 0xBEE3CA78#32
  | 90 => 0x3F8C291F#32
  | 91 => 0x3D657704#32
  | 92 => 0x3F4621C8#32
  | 93 => 0x3F51E94E#32
  | 94 => 0x3F4C460B#32
  | 95 => 0x3F613AFB#32
  | 96 => 0x3E0E300A#32
  | 97 => 0xBF38D45E#32
  | 98 => 0x3FC41F2B#32
  | 99 => 0x3ED5DB89#32
  | 100 => 0xBD89FC6E#32
  | 101 => 0x3F84AD57#32
  | 102 => 0xBE34B2B8#32
  | 103 => 0xBF2F35E6#32
  | 104 => 0x3C996FD3#32
  | 105 => 0x3EF34E5C#32
  | 106 => 0x3E91B5C6#32
  | 107 => 0xBFBE759A#32
  | 108 => 0x3F67C6F3#32
  | 109 => 0xBF760126#32
  | 110 => 0x3E30F28A#32
  | 111 => 0x3E8C0E88#32
  | 112 => 0x4009B45B#32
  | 113 => 0xBCD62435#32
  | 114 => 0x3F959A12#32
  | 115 => 0x3EC88574#32
  | 116 => 0x3DE2CD4B#32
  | 117 => 0xBF700207#32
  | 118 => 0x3D915A11#32
  | 119 => 0x3F0A3D97#32
  | 120 => 0xBF3B0BFE#32
  | 121 => 0x3FD235F4#32
  | 122 => 0xBF49152B#32
  | 123 => 0xBE0E88EE#32
  | 124 => 0xBF0959D5#32
  | 125 => 0xBFD0C96A#32
  | 126 => 0x3FAEE1CC#32
  | 127 => 0x3F8DE611#32
  | _ => 0#32

noncomputable abbrev lit0t0_782 (i : Nat) : BitVec 32 := match i % 128 with
  | 0 => 0x3FE147AC#32
  | 1 => 0xBDCADD79#32
  | 2 => 0xBF28B064#32
  | 3 => 0x3F817FF8#32
  | 4 => 0x3F31C9EB#32
  | 5 => 0x3D53DC69#32
  | 6 => 0x3E179AD5#32
  | 7 => 0xBE3EF5EF#32
  | 8 => 0xBFF37EB9#32
  | 9 => 0x3EB562A5#32
  | 10 => 0x3CDF0DA1#32
  | 11 => 0xBF56859A#32
  | 12 => 0xBDE19AA5#32
  | 13 => 0x3EECA14A#32
  | 14 => 0x40703AA3#32
  | 15 => 0x3E7E29F2#32
  | 16 => 0xBE298F7D#32
  | 17 => 0x409A9978#32
  | 18 => 0x3EBF1E97#32
  | 19 => 0x40296C0C#32
  | 20 => 0x3FDC3DD2#32
  | 21 => 0x3F208C98#32
  | 22 => 0xBF148586#32
  | 23 => 0x3FC05ADD#32
  | 24 => 0x404A2222#32
  | 25 => 0xBF15346A#32
  | 26 => 0x3E9CBC66#32
  | 27 => 0x409ECA47#32
  | 28 => 0x3E21F812#32
  | 29 => 0x3EC9B889#32
  | 30 => 0x3FB34C6A#32
  | 31 => 0x3F714170#32
  | 32 => 0x406B1111#32
  | 33 => 0xBF080848#32
  | 34 => 0x3E9AE153#32
  | 35 => 0x3FF0E254#32
  | 36 => 0x3F91F4F8#32
  | 37 => 0x3F87B5CB#32
  | 38 => 0x3FD27912#32
  | 39 => 0x3F48B724#32
  | 40 => 0xBF70C862#32
  | 41 => 0xBF386D92#32
  | 42 => 0xBE9674A0#32
  | 43 => 0xBF7D059E#32
  | 44 => 0x3F2EE4D8#32
  | 45 => 0xBE6B542D#32
  | 46 => 0x406BF759#32
  | 47 => 0xBEB0D8C0#32
  | 48 => 0x402C9F9B#32
  | 49 => 0xBF5159D2#32
  | 50 => 0x3EFBC37E#32
  | 51 => 0x4039E1C7#32
  | 52 => 0x3FABCBC7#32
  | 53 => 0x3F8B0EFC#32
  | 54 => 0xBEEEF7BC#32
  | 55 => 0xBEA2DBC1#32
  | 56 => 0xBF0DC52C#32
  | 57 => 0x3B1920C3#32
  | 58 => 0x3FD8C052#32
  | 59 => 0xBF921370#32
  | 60 => 0xBE67E540#32
  | 61 => 0x3F563969#32
  | 62 => 0xBDCDE85B#32
  | 63 => 0x3F0A66D2#32
  | 64 => 0x405B2140#32
  | 65 => 0xBF02DCA2#32
  | 66 => 0xBF563001#32
  | 67 => 0x3E4DCA88#32
  | 68 => 0x3F23CA6F#32
  | 69 => 0xBF84B042#32
  | 70 => 0x3F9B3E5C#32
  | 71 => 0xBE9E96EF#32
  | 72 => 0x3D4FAE1A#32
  | 73 => 0x3E9F84C2#32
  | 74 => 0x3F38AB78#32
  | 75 => 0xBF1903F5#32
  | 76 => 0xBEAB9D5F#32
  | 77 => 0xBE76C155#32
  | 78 => 0x3FD05041#32
  | 79 => 0x3ED670FF#32
  | 80 => 0x3F7EDDA9#32
  | 81 => 0x4006B1A1#32
  | 82 => 0x3E2346AC#32
  | 83 => 0xBE973281#32
  | 84 => 0x3F9FCB51#32
  | 85 => 0xBF37F3FD#32
  | 86 => 0x3F992F63#32
  | 87 => 0xBF368652#32
  | 88 => 0xBF75E210#32
  | 89 => 0x400E8E43#32
  | 90 => 0xBF0232B7#32
  | 91 => 0x403DBEBE#32
  | 92 => 0x3F6F1521#32
  | 93 => 0xBF9C8293#32
  | 94 => 0xBE71B189#32
  | 95 => 0xBF5DB06C#32
  | 96 => 0x402852ED#32
  | 97 => 0x4016FB72#32
  | 98 => 0x3F834E1B#32
  | 99 => 0xBF309980#32
  | 100 => 0x407690F8#32
  | 101 => 0x3FD4326B#32
  | 102 => 0xBD70C473#32
  | 103 => 0x3F92564F#32
  | 104 => 0xBEA167C6#32
  | 105 => 0x3FD8136D#32
  | 106 => 0xBF503A85#32
  | 107 => 0xBF0A8472#32
  | 108 => 0xBDC459A6#32
  | 109 => 0xBFC08EC2#32
  | 110 => 0x3E44E871#32
  | 111 => 0xBE7C9E4D#32
  | 112 => 0x3F86C1F8#32
  | 113 => 0x3DC3E219#32
  | 114 => 0x3E4AF8F9#32
  | 115 => 0xBF0A9C72#32
  | 116 => 0xBFB6B8FC#32
  | 117 => 0xBEE680F5#32
  | 118 => 0x40657045#32
  | 119 => 0x3D94B0BD#32
  | 120 => 0xBE942E43#32
  | 121 => 0x3E6D6B0E#32
  | 122 => 0x400A1E92#32
  | 123 => 0x3E2721CA#32
  | 124 => 0xBEF7E54C#32
  | 125 => 0xBE8FAAF5#32
  | 126 => 0xBEE63ABC#32
  | 127 => 0xBE3CA6B6#32
  | _ => 0#32

noncomputable abbrev lit0t0_783 (i : Nat) : BitVec 32 := match i % 128 with
  | 0 => 0xBF4971EB#32
  | 1 => 0x3EEA5C1C#32
  | 2 => 0xBF83C4F1#32
  | 3 => 0x3F4E39FE#32
  | 4 => 0x3EAAFFB1#32
  | 5 => 0x404A1E7D#32
  | 6 => 0xBF803444#32
  | 7 => 0xBE847B4F#32
  | 8 => 0x400409A7#32
  | 9 => 0x40233308#32
  | 10 => 0xBF60D82E#32
  | 11 => 0x3E293529#32
  | 12 => 0x3F30AE05#32
  | 13 => 0xBF69E4E2#32
  | 14 => 0x3FDFF3FF#32
  | 15 => 0xBF2E7109#32
  | 16 => 0x3F1F5ECA#32
  | 17 => 0xBE8DE280#32
  | 18 => 0xBE045097#32
  | 19 => 0x3F91358C#32
  | 20 => 0x3F82CB98#32
  | 21 => 0x3F30AA86#32
  | 22 => 0xBF25DDED#32
  | 23 => 0xBEE5ED06#32
  | 24 => 0xBE9E02FD#32
  | 25 => 0xBEC59F85#32
  | 26 => 0xBD5D94C3#32
  | 27 => 0x3DCBC81B#32
  | 28 => 0xBDB0455A#32
  | 29 => 0x4011ADC0#32
  | 30 => 0xBEFD28C8#32
  | 31 => 0xBF17F28C#32
  | 32 => 0x3F7938AF#32
  | 33 => 0x3ED5E7AE#32
  | 34 => 0xBF528703#32
  | 35 => 0xBF7CCFFC#32
  | 36 => 0x4043BDA6#32
  | 37 => 0x3F914E5E#32
  | 38 => 0x3F5FEA7B#32
  | 39 => 0x4007937C#32
  | 40 => 0xBFD5C8FE#32
  | 41 => 0x3EB78919#32
  | 42 => 0x3F776ECA#32
  | 43 => 0xBE8353DA#32
  | 44 => 0x3FE81C62#32
  | 45 => 0xBD08B017#32
  | 46 => 0xBF69AEFE#32
  | 47 => 0x3C88051E#32
  | 48 => 0x3ED69996#32
  | 49 => 0x3F716BE6#32
  | 50 => 0x3EA83F28#32
  | 51 => 0xBF365AE3#32
  | 52 => 0x3FA71440#32
  | 53 => 0x3F45E997#32
  | 54 => 0xBEB430EA#32
  | 55 => 0x40506949#32
  | 56 => 0xBD165BE8#32
  | 57 => 0xBFC12918#32
  | 58 => 0x3EE52870#32
  | 59 => 0xBF984253#32
  | 60 => 0xBF6DB6BE#32
  | 61 => 0xBEBE8142#32
  | 62 => 0x40396EB1#32
  | 63 => 0x3FB24513#32
  | 64 => 0x3EB38586#32
  | 65 => 0xBF5B2D36#32
  | 66 => 0x40726E9D#32
  | 67 => 0xBE26B564#32
  | 68 => 0xBF1EF5B5#32
  | 69 => 0x3F317DCA#32
  | 70 => 0x3ED7C870#32
  | 71 => 0xBFB8BD0E#32
  | 72 => 0x3F6942AC#32
  | 73 => 0xBEF8E5A6#32
  | 74 => 0xBF777184#32
  | 75 => 0xBF18EDB3#32
  | 76 => 0x3FBC22AF#32
  | 77 => 0x3E182DE2#32
  | 78 => 0x3F17C3AB#32
  | 79 => 0xBE759657#32
  | 80 => 0x40123111#32
  | 81 => 0xBF9A7C33#32
  | 82 => 0x3F99C9BE#32
  | 83 => 0x3EF88F7A#32
  | 84 => 0x4095A624#32
  | 85 => 0xBF0BB512#32
  | 86 => 0x3E06C4D5#32
  | 87 => 0xBF5F0EB5#32
  | 88 => 0xBF0ACC4D#32
  | 89 => 0x40DC5328#32
  | 90 => 0x3E373CC2#32
  | 91 => 0xBF5D82FA#32
  | 92 => 0xBE564036#32
  | 93 => 0x3FE5FC82#32
  | 94 => 0xBE63EB33#32
  | 95 => 0xBE9761CA#32
  | 96 => 0x3EF08A78#32
  | 97 => 0xBFA6B227#32
  | 98 => 0x4005C218#32
  | 99 => 0x3FA3D153#32
  | 100 => 0xBF1B6BE9#32
  | 101 => 0xBCFCA935#32
  | 102 => 0x3FB5F22F#32
  | 103 => 0x3DB7C072#32
  | 104 => 0x3FE3C31D#32
  | 105 => 0x3F11D66B#32
  | 106 => 0xBF2409E8#32
  | 107 => 0xBEA26901#32
  | 108 => 0x40554D2E#32
  | 109 => 0xBF2FC07C#32
  | 110 => 0x3EC5DC83#32
  | 111 => 0xBCB84C09#32
  | 112 => 0x3F07E960#32
  | 113 => 0xBF5B5E65#32
  | 114 => 0x3F4A62FB#32
  | 115 => 0x3F8189BA#32
  | 116 => 0x3E33C926#32
  | 117 => 0x3DEDAAC9#32
  | 118 => 0x3EF64463#32
  | 119 => 0x401D7032#32
  | 120 => 0xBEB22EF9#32
  | 121 => 0x3D707DC5#32
  | 122 => 0x3F22A8BD#32
  | 123 => 0x3F0C5766#32
  | 124 => 0x3E0F1912#32
  | 125 => 0x3FCD5BCE#32
  | 126 => 0xBE84E8FA#32
  | 127 => 0x3F4A13AF#32
  | _ => 0#32

noncomputable abbrev lit0t0_784 (i : Nat) : BitVec 32 := match i % 128 with
  | 0 => 0x3D85857C#32
  | 1 => 0x405727F4#32
  | 2 => 0x40A1A905#32
  | 3 => 0xBEA74F8A#32
  | 4 => 0xBF32C1D1#32
  | 5 => 0x3EEF14F6#32
  | 6 => 0xBEE67ABE#32
  | 7 => 0x3F8B186D#32
  | 8 => 0xBF701984#32
  | 9 => 0x3FFF63CE#32
  | 10 => 0x3F01A262#32
  | 11 => 0x3F2BDDA2#32
  | 12 => 0xBF80EEB5#32
  | 13 => 0x4077F474#32
  | 14 => 0x3EB8AB22#32
  | 15 => 0x3F56372E#32
  | 16 => 0x3F0A88E2#32
  | 17 => 0x3CDA34E8#32
  | 18 => 0x3DAD410A#32
  | 19 => 0x3FBC127C#32
  | 20 => 0xBE03642C#32
  | 21 => 0xBEB81B18#32
  | 22 => 0x3E20448D#32
  | 23 => 0xBEDC69E0#32
  | 24 => 0x3FF13807#32
  | 25 => 0x3F3F0923#32
  | 26 => 0xBE9B8EE3#32
  | 27 => 0xBD6008E6#32
  | 28 => 0x4006490C#32
  | 29 => 0x3F08B686#32
  | 30 => 0x3FA8D140#32
  | 31 => 0x3E765566#32
  | 32 => 0xBF556802#32
  | 33 => 0x3FDE1A83#32
  | 34 => 0x3F93332F#32
  | 35 => 0x3C77C0A2#32
  | 36 => 0xBDF1F34F#32
  | 37 => 0x3FE98A96#32
  | 38 => 0xBE26090C#32
  | 39 => 0xBEE8D6BC#32
  | 40 => 0x3F8C6253#32
  | 41 => 0x40216F29#32
  | 42 => 0x3E8251BD#32
  | 43 => 0x3F8669A5#32
  | 44 => 0x40BA48BA#32
  | 45 => 0x4017CE9B#32
  | 46 => 0x3FE2B5BE#32
  | 47 => 0x3F56F484#32
  | 48 => 0x3F043783#32
  | 49 => 0xBF842DFE#32
  | 50 => 0x3F2910B1#32
  | 51 => 0x3FC3EFE4#32
  | 52 => 0xBF811CFC#32
  | 53 => 0xBD54B368#32
  | 54 => 0xBE09B312#32
  | 55 => 0x40A2E3E9#32
  | 56 => 0xBF95FA10#32
  | 57 => 0x3E29E221#32
  | 58 => 0x4004052B#32
  | 59 => 0x3C0376EA#32
  | 60 => 0xBF48275A#32
  | 61 => 0x3E9E7076#32
  | 62 => 0x3E8CF4C0#32
  | 63 => 0xBD57B979#32
  | 64 => 0xBE4C37BF#32
  | 65 => 0x3E99C0CC#32
  | 66 => 0x40914E9C#32
  | 67 => 0xBF61DDE2#32
  | 68 => 0xBE52408C#32
  | 69 => 0x3F668938#32
  | 70 => 0xBC22BD67#32
  | 71 => 0xBF1F011F#32
  | 72 => 0xBEA8A3AB#32
  | 73 => 0x4046C79D#32
  | 74 => 0xBE07C54C#32
  | 75 => 0x3DA0FB9A#32
  | 76 => 0x40108E4C#32
  | 77 => 0xBF516286#32
  | 78 => 0x3FF7CE11#32
  | 79 => 0x3F1E815C#32
  | 80 => 0x401531FE#32
  | 81 => 0xBF4422AB#32
  | 82 => 0xBFE04618#32
  | 83 => 0x3FB742FB#32
  | 84 => 0x3E1AA650#32
  | 85 => 0xBDBA0DD6#32
  | 86 => 0x3EA48153#32
  | 87 => 0x3EA9D2D4#32
  | 88 => 0x401503CE#32
  | 89 => 0xBEA81EC7#32
  | 90 => 0x3F08512C#32
  | 91 => 0x3F5E51F6#32
  | 92 => 0xBF9251F6#32
  | 93 => 0x3E83124F#32
  | 94 => 0x3FCBDA60#32
  | 95 => 0xBD0845F0#32
  | 96 => 0xBE5E54CC#32
  | 97 => 0xBD05D5BC#32
  | 98 => 0x3F223C10#32
  | 99 => 0x3FA9B7E9#32
  | 100 => 0xBE7AAB5B#32
  | 101 => 0x3F80AA4C#32
  | 102 => 0x3F159D64#32
  | 103 => 0x3E9E11C5#32
  | 104 => 0x3F95DFA3#32
  | 105 => 0x3E8CEEC6#32
  | 106 => 0x3F5207B3#32
  | 107 => 0x3F5C08D2#32
  | 108 => 0xBD356804#32
  | 109 => 0x3F1410B7#32
  | 110 => 0x3F1CA7FB#32
  | 111 => 0x3F5DE38C#32
  | 112 => 0x3FACF433#32
  | 113 => 0x3F96C4AC#32
  | 114 => 0x3F62C24E#32
  | 115 => 0x40065FCC#32
  | 116 => 0x3FDEBCAA#32
  | 117 => 0x3FB0776F#32
  | 118 => 0x4050AE21#32
  | 119 => 0xBF5C8A8E#32
  | 120 => 0x3F8C4688#32
  | 121 => 0x3F0DC279#32
  | 122 => 0x4017A499#32
  | 123 => 0xBEEF328A#32
  | 124 => 0x3F92188A#32
  | 125 => 0x3FF4F3E5#32
  | 126 => 0x3DA5487B#32
  | 127 => 0x40953267#32
  | _ => 0#32

noncomputable abbrev lit0t0_785 (i : Nat) : BitVec 32 := match i % 128 with
  | 0 => 0x3E8BF27F#32
  | 1 => 0x3EF2FC4A#32
  | 2 => 0x3ED7F842#32
  | 3 => 0x3FF921E1#32
  | 4 => 0x406B94D0#32
  | 5 => 0xBF35F675#32
  | 6 => 0x3FB8D167#32
  | 7 => 0x3F272CE4#32
  | 8 => 0x3F030EBC#32
  | 9 => 0xBF019082#32
  | 10 => 0xBEBE8EEA#32
  | 11 => 0x4011355C#32
  | 12 => 0x3A980A90#32
  | 13 => 0xBD4F37F9#32
  | 14 => 0xBF4C4819#32
  | 15 => 0xBCAA1983#32
  | 16 => 0x3F305BF7#32
  | 17 => 0x3ECB803E#32
  | 18 => 0x3EB1186D#32
  | 19 => 0x3D9E1B7E#32
  | 20 => 0x3F16A5B1#32
  | 21 => 0x3F575178#32
  | 22 => 0x3FBAFF37#32
  | 23 => 0x3FB560C6#32
  | 24 => 0x3FABEF84#32
  | 25 => 0x3F879F9A#32
  | 26 => 0x4074C1EC#32
  | 27 => 0x3EF430C2#32
  | 28 => 0xBEDC1456#32
  | 29 => 0x3ED5AD01#32
  | 30 => 0xBF2E6732#32
  | 31 => 0x3F1829D8#32
  | 32 => 0x3F9CF25C#32
  | 33 => 0x4026CE59#32
  | 34 => 0xBDD6FAB7#32
  | 35 => 0xBE111FF2#32
  | 36 => 0xBF94A9F0#32
  | 37 => 0xBED6AFDB#32
  | 38 => 0x3FBD0411#32
  | 39 => 0x3F92557B#32
  | 40 => 0x3E89DB93#32
  | 41 => 0x3EC5862D#32
  | 42 => 0x3E843A8C#32
  | 43 => 0x3F58E970#32
  | 44 => 0x3FB9136E#32
  | 45 => 0x4049F0B7#32
  | 46 => 0x4017847B#32
  | 47 => 0x3F8F4C9E#32
  | 48 => 0xBF0DE255#32
  | 49 => 0xBF0FF0C1#32
  | 50 => 0x404325D7#32
  | 51 => 0x40011594#32
  | 52 => 0xBEBE953F#32
  | 53 => 0xBFA6B5EF#32
  | 54 => 0x404D7C52#32
  | 55 => 0x3F8CD1AC#32
  | 56 => 0x3FDEB931#32
  | 57 => 0x3FD0B936#32
  | 58 => 0x3FA04EDE#32
  | 59 => 0xBFB03A1D#32
  | 60 => 0x3FE86BF0#32
  | 61 => 0x3FFF869B#32
  | 62 => 0x3F09A304#32
  | 63 => 0x3FE223D3#32
  | 64 => 0x4005B7C1#32
  | 65 => 0xBF52DEB1#32
  | 66 => 0x3FC8B9AF#32
  | 67 => 0xBE9FF517#32
  | 68 => 0x40441BEE#32
  | 69 => 0x3E8F8F02#32
  | 70 => 0xBF2DFAE9#32
  | 71 => 0x4095E8AD#32
  | 72 => 0x3FD118AF#32
  | 73 => 0x3E080D43#32
  | 74 => 0xBDE2C922#32
  | 75 => 0x3EEA5458#32
  | 76 => 0x3FC9E117#32
  | 77 => 0x3C2CB22F#32
  | 78 => 0x407D66A9#32
  | 79 => 0xBE5063B9#32
  | 80 => 0xBFFD39B7#32
  | 81 => 0xBFBF33EE#32
  | 82 => 0xBF09A95E#32
  | 83 => 0x3D3CDCDA#32
  | 84 => 0x3F605704#32
  | 85 => 0x3F999742#32
  | 86 => 0x3F07F702#32
  | 87 => 0x3F8CF3EF#32
  | 88 => 0x408DCE2D#32
  | 89 => 0x3EBAB6CE#32
  | 90 => 0xBF81C214#32
  | 91 => 0xBD4E8946#32
  | 92 => 0xBEA347FB#32
  | 93 => 0x3EE229D2#32
  | 94 => 0x3E8FED3A#32
  | 95 => 0xBDC46E6F#32
  | 96 => 0xBE16AD8C#32
  | 97 => 0x3B9B9DF2#32
  | 98 => 0xBF3480D3#32
  | 99 => 0x404843AD#32
  | 100 => 0x3FD4FD83#32
  | 101 => 0x3F8D8E5B#32
  | 102 => 0xBF1C7AF3#32
  | 103 => 0x3FD47262#32
  | 104 => 0xBFA3290B#32
  | 105 => 0x40D9ABE6#32
  | 106 => 0xBDBEB52E#32
  | 107 => 0xBD95F900#32
  | 108 => 0x3F2A6C39#32
  | 109 => 0x3F1E0639#32
  | 110 => 0x3F7BFE83#32
  | 111 => 0x403C120E#32
  | 112 => 0xBF60C339#32
  | 113 => 0x4020745E#32
  | 114 => 0x3FADEE4C#32
  | 115 => 0x3F2D2530#32
  | 116 => 0x3F3C99FE#32
  | 117 => 0x3F9BA9C0#32
  | 118 => 0x3F709F60#32
  | 119 => 0xBC6014EB#32
  | 120 => 0xBE52835E#32
  | 121 => 0x3FAB7DD2#32
  | 122 => 0x4015237E#32
  | 123 => 0xBE9BE5CE#32
  | 124 => 0xBB717200#32
  | 125 => 0x3FCC859C#32
  | 126 => 0xBF663E58#32
  | 127 => 0x3F1BAA80#32
  | _ => 0#32

noncomputable abbrev lit0t0_786 (i : Nat) : BitVec 32 := match i % 128 with
  | 0 => 0x405DA6D5#32
  | 1 => 0x3DA61945#32
  | 2 => 0xBE307AD9#32
  | 3 => 0x3D6F4297#32
  | 4 => 0x3DC44983#32
  | 5 => 0x3EF69FFE#32
  | 6 => 0x3F0B145C#32
  | 7 => 0x3F8BDD2B#32
  | 8 => 0x3F8CAD3E#32
  | 9 => 0xBF9857FA#32
  | 10 => 0xBF16D77E#32
  | 11 => 0x3F866AE2#32
  | 12 => 0x403EC69D#32
  | 13 => 0xBE8416F9#32
  | 14 => 0x3F1E5A8E#32
  | 15 => 0xBDFE3B2F#32
  | 16 => 0x402E57F4#32
  | 17 => 0x3F2127CF#32
  | 18 => 0x3D9ADA55#32
  | 19 => 0xBF30E561#32
  | 20 => 0xBF1E7C28#32
  | 21 => 0x3FA61962#32
  | 22 => 0x3E8BD0D4#32
  | 23 => 0xBE3932D9#32
  | 24 => 0x3FAC7E61#32
  | 25 => 0x3F242DFE#32
  | 26 => 0xBE5CA2E2#32
  | 27 => 0x3D1A1CBC#32
  | 28 => 0xBEFC1F87#32
  | 29 => 0xBF2448B0#32
  | 30 => 0x3FB09E3C#32
  | 31 => 0x3FA06114#32
  | 32 => 0xBFDB3A93#32
  | 33 => 0xBF5882FE#32
  | 34 => 0x400AD4EB#32
  | 35 => 0x3F2F370D#32
  | 36 => 0x4006F6E6#32
  | 37 => 0xBE820FF9#32
  | 38 => 0xBD203651#32
  | 39 => 0x3F174187#32
  | 40 => 0xBDE044E2#32
  | 41 => 0xBD52BF32#32
  | 42 => 0x3E789FDA#32
  | 43 => 0x3FDC69F0#32
  | 44 => 0x3E69443C#32
  | 45 => 0xBE5AA29F#32
  | 46 => 0xBF0EAEA1#32
  | 47 => 0x3E0E39A4#32
  | 48 => 0x3F4DFF83#32
  | 49 => 0x3F21061D#32
  | 50 => 0x3FBBF21E#32
  | 51 => 0x40760D9C#32
  | 52 => 0x3FC940B8#32
  | 53 => 0x3B73FA1E#32
  | 54 => 0xBECA9346#32
  | 55 => 0x3F0F912E#32
  | 56 => 0x3FC970DF#32
  | 57 => 0xBEF10F21#32
  | 58 => 0x3F35E51F#32
  | 59 => 0xBF6AC28E#32
  | 60 => 0x3F94FBBB#32
  | 61 => 0xBE0DE9D3#32
  | 62 => 0x3F32D440#32
  | 63 => 0x3F50BEB9#32
  | 64 => 0x3FDA88FC#32
  | 65 => 0x3E6BDF4C#32
  | 66 => 0x3F819595#32
  | 67 => 0x3F39FD0C#32
  | 68 => 0x3F5FD4D8#32
  | 69 => 0x3F6A075C#32
  | 70 => 0xBE11068F#32
  | 71 => 0x3F284287#32
  | 72 => 0xBE931F30#32
  | 73 => 0x3FA1EC78#32
  | 74 => 0xBF8A853A#32
  | 75 => 0xBF36C205#32
  | 76 => 0xBF01B4F4#32
  | 77 => 0xBF2AD2BA#32
  | 78 => 0x3ECB8E5C#32
  | 79 => 0xBF1D17E4#32
  | 80 => 0xBDA01E78#32
  | 81 => 0x3FD7DE2D#32
  | 82 => 0xBF318A89#32
  | 83 => 0xBCB26906#32
  | 84 => 0xBE0F386F#32
  | 85 => 0x3F818BC8#32
  | 86 => 0x3F8249C1#32
  | 87 => 0x3D30E565#32
  | 88 => 0xBF5D6857#32
  | 89 => 0x402F1B5F#32
  | 90 => 0xBF60A31D#32
  | 91 => 0x3E03474F#32
  | 92 => 0x3E9E428E#32
  | 93 => 0x3F3E27D8#32
  | 94 => 0x3E7E538C#32
  | 95 => 0x3EE3085E#32
  | 96 => 0xBED5A282#32
  | 97 => 0xBF0E4B76#32
  | 98 => 0xBED1CF6E#32
  | 99 => 0xBE7AD4C6#32
  | 100 => 0xBF5CC950#32
  | 101 => 0x3ECF4CFE#32
  | 102 => 0x3FE53AA4#32
  | 103 => 0x3F969B3B#32
  | 104 => 0x3EA7EDB5#32
  | 105 => 0x4000A185#32
  | 106 => 0x3EBEC993#32
  | 107 => 0x3FA3237C#32
  | 108 => 0x3EAF4A0A#32
  | 109 => 0xBF56B14E#32
  | 110 => 0xBF323811#32
  | 111 => 0xBF5037F2#32
  | 112 => 0x3FE359E8#32
  | 113 => 0xBF0B9B04#32
  | 114 => 0xBE89DDCD#32
  | 115 => 0xBE86A426#32
  | 116 => 0xBE5F3C96#32
  | 117 => 0x3F7A56DC#32
  | 118 => 0x3E8A2FF8#32
  | 119 => 0x3F83D6F4#32
  | 120 => 0x400353AB#32
  | 121 => 0xBDCA6549#32
  | 122 => 0x402A850F#32
  | 123 => 0xBEA78798#32
  | 124 => 0xBEFEA0E8#32
  | 125 => 0x400DBFBE#32
  | 126 => 0xBCB2AB11#32
  | 127 => 0xBF0421C6#32
  | _ => 0#32

noncomputable abbrev lit0t0_787 (i : Nat) : BitVec 32 := match i % 128 with
  | 0 => 0x3F0FA41E#32
  | 1 => 0xBF3EE518#32
  | 2 => 0x3FAFB583#32
  | 3 => 0xBF195E9C#32
  | 4 => 0x3F499180#32
  | 5 => 0x3EE6678E#32
  | 6 => 0xBF8A5B54#32
  | 7 => 0xBF2870D6#32
  | 8 => 0x404934A4#32
  | 9 => 0xBF3C56D8#32
  | 10 => 0x3FACDC8D#32
  | 11 => 0xBED75967#32
  | 12 => 0xBF913C95#32
  | 13 => 0xBE568C3A#32
  | 14 => 0x3EB99F65#32
  | 15 => 0xBF84E5DA#32
  | 16 => 0xBE829985#32
  | 17 => 0x3F5FCFD0#32
  | 18 => 0xBD8650E4#32
  | 19 => 0x3FA1063B#32
  | 20 => 0xBF2FE667#32
  | 21 => 0x3F52C5A2#32
  | 22 => 0x3E73BC79#32
  | 23 => 0xBDA4290B#32
  | 24 => 0xBC6DAB8E#32
  | 25 => 0xBD139140#32
  | 26 => 0xBF464174#32
  | 27 => 0x3F8319E8#32
  | 28 => 0x3F0C58F3#32
  | 29 => 0x3F04A5BE#32
  | 30 => 0xBE13F5DB#32
  | 31 => 0xBF9899BD#32
  | 32 => 0x3F9DDC88#32
  | 33 => 0x3FDFD1F2#32
  | 34 => 0x3F4278C6#32
  | 35 => 0x3F64F9EF#32
  | 36 => 0x3F9963F2#32
  | 37 => 0x3FB714A9#32
  | 38 => 0xBDC266B7#32
  | 39 => 0x3C1259D6#32
  | 40 => 0x3C6A6778#32
  | 41 => 0xBE405842#32
  | 42 => 0xBF840F56#32
  | 43 => 0x3F1605F9#32
  | 44 => 0xBEF826ED#32
  | 45 => 0x40081870#32
  | 46 => 0x3FEA5AAF#32
  | 47 => 0x3F4FD415#32
  | 48 => 0x3F970B45#32
  | 49 => 0xBE5EF9AA#32
  | 50 => 0x3D808115#32
  | 51 => 0x3E439EBC#32
  | 52 => 0xBF456BAE#32
  | 53 => 0x401494E3#32
  | 54 => 0x3F125BB2#32
  | 55 => 0x3FD941EB#32
  | 56 => 0xBECA4211#32
  | 57 => 0xBEA6AB9A#32
  | 58 => 0xBEAA6515#32
  | 59 => 0xBE7FFD5F#32
  | 60 => 0x3ECA22F6#32
  | 61 => 0xBE04FE34#32
  | 62 => 0xBF79217A#32
  | 63 => 0x3FD5A7F9#32
  | 64 => 0xBFBA0EFC#32
  | 65 => 0xBE2B35F2#32
  | 66 => 0x3FE2173E#32
  | 67 => 0xBF1A0657#32
  | 68 => 0x3F66989A#32
  | 69 => 0x3EC58745#32
  | 70 => 0x3E104620#32
  | 71 => 0xBEC8BA68#32
  | 72 => 0x3F10BF74#32
  | 73 => 0xBDC3ED3C#32
  | 74 => 0x3E39376A#32
  | 75 => 0x3D9D1645#32
  | 76 => 0x3E11F9FD#32
  | 77 => 0x3F8E3C90#32
  | 78 => 0x3F64426C#32
  | 79 => 0x3F9BC4EF#32
  | 80 => 0x3E575139#32
  | 81 => 0xBF7EAA7D#32
  | 82 => 0x3F76D8F1#32
  | 83 => 0xBF12C066#32
  | 84 => 0x3F4F13B0#32
  | 85 => 0x3FF6FB81#32
  | 86 => 0xBD38E885#32
  | 87 => 0x3F40FE65#32
  | 88 => 0x3FE0EFCD#32
  | 89 => 0x3E253EA6#32
  | 90 => 0xBF103130#32
  | 91 => 0x3F92D8F0#32
  | 92 => 0xBF1A2409#32
  | 93 => 0x3F8A91E7#32
  | 94 => 0xBF660E08#32
  | 95 => 0x4013424D#32
  | 96 => 0xBF440A03#32
  | 97 => 0x3FDE9A32#32
  | 98 => 0x3F06B402#32
  | 99 => 0xBF6F6017#32
  | 100 => 0x3EF986EA#32
  | 101 => 0x3F487DC2#32
  | 102 => 0x3DD74689#32
  | 103 => 0x3F312404#32
  | 104 => 0x4019890E#32
  | 105 => 0xBECB4380#32
  | 106 => 0xBF2A3C2D#32
  | 107 => 0x3FE384BB#32
  | 108 => 0xBFDFE374#32
  | 109 => 0x3EF06042#32
  | 110 => 0xBEF6CB48#32
  | 111 => 0x3E41DE4D#32
  | 112 => 0x3FC165BE#32
  | 113 => 0x3E5A6161#32
  | 114 => 0xBE3B2660#32
  | 115 => 0x3F817AE0#32
  | 116 => 0x3F3EF832#32
  | 117 => 0x3E900486#32
  | 118 => 0xBF818494#32
  | 119 => 0xBF256C59#32
  | 120 => 0xBF4E1ADA#32
  | 121 => 0x3E4E2780#32
  | 122 => 0x3F6EE5C2#32
  | 123 => 0x401029E3#32
  | 124 => 0xBF5A3429#32
  | 125 => 0x3D7FE384#32
  | 126 => 0x400D2D0C#32
  | 127 => 0x3F2E0A16#32
  | _ => 0#32

noncomputable abbrev lit0t0_788 (i : Nat) : BitVec 32 := match i % 128 with
  | 0 => 0x3F679238#32
  | 1 => 0x3E7BAA91#32
  | 2 => 0xBE14ADD6#32
  | 3 => 0xBEBCE6FE#32
  | 4 => 0x4006CB70#32
  | 5 => 0x3F7A71F0#32
  | 6 => 0x3F23981C#32
  | 7 => 0x40194CF4#32
  | 8 => 0x3FE914C8#32
  | 9 => 0xBE1E135C#32
  | 10 => 0x3E3129DA#32
  | 11 => 0xBF36071E#32
  | 12 => 0x3FA814EB#32
  | 13 => 0xBF2B42D6#32
  | 14 => 0xBF636C91#32
  | 15 => 0x3EE1F10F#32
  | 16 => 0xBFB2D724#32
  | 17 => 0xBE54C9F9#32
  | 18 => 0x3F1DE054#32
  | 19 => 0x3EC28064#32
  | 20 => 0x3F8374C3#32
  | 21 => 0xBEEC6EAB#32
  | 22 => 0xBD97553B#32
  | 23 => 0xBF0907B2#32
  | 24 => 0x3E961836#32
  | 25 => 0x3F72AEF6#32
  | 26 => 0x3FEDA195#32
  | 27 => 0x3F8E72D3#32
  | 28 => 0x3E9BEA64#32
  | 29 => 0x3EB69D2D#32
  | 30 => 0xBDDFBE5D#32
  | 31 => 0x40C5FB05#32
  | 32 => 0xBF38FED6#32
  | 33 => 0x4024D6C4#32
  | 34 => 0x3F1995FD#32
  | 35 => 0x3F3F80C5#32
  | 36 => 0xBFAA9746#32
  | 37 => 0x3EDF5456#32
  | 38 => 0xBE310F06#32
  | 39 => 0x3F8D5BD5#32
  | 40 => 0x3F7F1D58#32
  | 41 => 0x3FF79181#32
  | 42 => 0x3EFDA118#32
  | 43 => 0xBF9BF0C2#32
  | 44 => 0x4067A7AC#32
  | 45 => 0xBF926165#32
  | 46 => 0xBF1D3FDD#32
  | 47 => 0xBEE4C6D3#32
  | 48 => 0xBFB59187#32
  | 49 => 0x3F58C898#32
  | 50 => 0x3E9C0492#32
  | 51 => 0x3F2D8D5C#32
  | 52 => 0x3F9C496C#32
  | 53 => 0x4053D9CA#32
  | 54 => 0x3D9878F9#32
  | 55 => 0x3F14CBA1#32
  | 56 => 0x3FA12E5A#32
  | 57 => 0xBBB0BCC4#32
  | 58 => 0xBF380F84#32
  | 59 => 0x3FAACB48#32
  | 60 => 0x3E7EC003#32
  | 61 => 0x3E00B4ED#32
  | 62 => 0xBE13A00D#32
  | 63 => 0x3FCE54E4#32
  | 64 => 0xBF621D8D#32
  | 65 => 0xBFCD0192#32
  | 66 => 0x3F60872C#32
  | 67 => 0xBDEA7F4D#32
  | 68 => 0x3F4D16AB#32
  | 69 => 0x3FA98615#32
  | 70 => 0x3F7F9C70#32
  | 71 => 0xBE9B9BE8#32
  | 72 => 0x3D2F81FE#32
  | 73 => 0x3F31E024#32
  | 74 => 0x3FB0250C#32
  | 75 => 0xBF0D5EF0#32
  | 76 => 0xBF2E8163#32
  | 77 => 0x3A4CC478#32
  | 78 => 0xBFC05E4F#32
  | 79 => 0x3FC28124#32
  | 80 => 0x3F795218#32
  | 81 => 0x3E9A1318#32
  | 82 => 0x405DE4A4#32
  | 83 => 0xBF31F31D#32
  | 84 => 0x402F24F4#32
  | 85 => 0x406A7732#32
  | 86 => 0x40A9F9F4#32
  | 87 => 0xBED61B62#32
  | 88 => 0xBEC109EB#32
  | 89 => 0xBEFFBBA6#32
  | 90 => 0xBFA3642F#32
  | 91 => 0xBF3527F9#32
  | 92 => 0xBF8515E0#32
  | 93 => 0xBF7D7469#32
  | 94 => 0x3EAF99FE#32
  | 95 => 0x3F311EFD#32
  | 96 => 0x3F4778A5#32
  | 97 => 0xBEEE59C8#32
  | 98 => 0xBFAEBD34#32
  | 99 => 0x3FBDBF43#32
  | 100 => 0xBF1FC066#32
  | 101 => 0x3EE6F61B#32
  | 102 => 0x3EFAD7DC#32
  | 103 => 0xBE8873FF#32
  | 104 => 0x3FB507D5#32
  | 105 => 0xBE8ADBE9#32
  | 106 => 0x3F6F778A#32
  | 107 => 0x3F9741F4#32
  | 108 => 0x4066647C#32
  | 109 => 0xBE7974EA#32
  | 110 => 0x3FD9EBC0#32
  | 111 => 0x3FA416E7#32
  | 112 => 0xBD72CC92#32
  | 113 => 0xBEEB9E02#32
  | 114 => 0xBF09D504#32
  | 115 => 0x3DB21EBA#32
  | 116 => 0x3F7A8E8A#32
  | 117 => 0x3F7BBC48#32
  | 118 => 0x3F4FD9AE#32
  | 119 => 0x407F299A#32
  | 120 => 0x40429663#32
  | 121 => 0xBE0CA9B7#32
  | 122 => 0xBE973281#32
  | 123 => 0xBCC2061F#32
  | 124 => 0xBF271A00#32
  | 125 => 0xBDBFDA95#32
  | 126 => 0x3FC557B6#32
  | 127 => 0xBDA6497D#32
  | _ => 0#32

noncomputable abbrev lit0t0_789 (i : Nat) : BitVec 32 := match i % 128 with
  | 0 => 0x3FF7A336#32
  | 1 => 0xBFC14C64#32
  | 2 => 0xBF242269#32
  | 3 => 0x401C8941#32
  | 4 => 0x3D316B60#32
  | 5 => 0x3E81EF2A#32
  | 6 => 0x3FB012D0#32
  | 7 => 0x3F3E651C#32
  | 8 => 0xBE012729#32
  | 9 => 0x3ED1AB62#32
  | 10 => 0x405A9089#32
  | 11 => 0xBF0B7D74#32
  | 12 => 0x3F9F1E74#32
  | 13 => 0x4074B0EC#32
  | 14 => 0xBE88E4A7#32
  | 15 => 0x3FFA182A#32
  | 16 => 0x3F501E38#32
  | 17 => 0xBFCC417D#32
  | 18 => 0x3ED4637A#32
  | 19 => 0xBF80B41D#32
  | 20 => 0x3FCDE7AD#32
  | 21 => 0x3F2656FA#32
  | 22 => 0x3C95BDBA#32
  | 23 => 0x401158DE#32
  | 24 => 0x3D262A4B#32
  | 25 => 0xBFA2B9EE#32
  | 26 => 0xBF23D2C7#32
  | 27 => 0x3F983108#32
  | 28 => 0xBEDA2EA7#32
  | 29 => 0x3DF8A3BF#32
  | 30 => 0xBF1E280C#32
  | 31 => 0xBF39DE11#32
  | 32 => 0xBDFD4594#32
  | 33 => 0x3FE5C171#32
  | 34 => 0xBF54CFBD#32
  | 35 => 0xBE8167E9#32
  | 36 => 0xBF53EB89#32
  | 37 => 0x3F7A5F44#32
  | 38 => 0xBF2E70A3#32
  | 39 => 0x3E5864AB#32
  | 40 => 0x3F9E1A30#32
  | 41 => 0xBDC668D1#32
  | 42 => 0x3F33FC6F#32
  | 43 => 0x3F5EAEF0#32
  | 44 => 0xBF35A4A2#32
  | 45 => 0x405A0159#32
  | 46 => 0xBF4F6530#32
  | 47 => 0xBE8F7019#32
  | 48 => 0x407A6DFE#32
  | 49 => 0xBF5EFF39#32
  | 50 => 0x3E13D685#32
  | 51 => 0x3F0CEE89#32
  | 52 => 0xBF1E0928#32
  | 53 => 0xBDB5745E#32
  | 54 => 0x3FF7BDEF#32
  | 55 => 0xBE8DAF05#32
  | 56 => 0x3F4D39BD#32
  | 57 => 0x40CCFF56#32
  | 58 => 0x3E9F3F8A#32
  | 59 => 0x3F13C925#32
  | 60 => 0xBF5D86DD#32
  | 61 => 0x40164267#32
  | 62 => 0x3EB90274#32
  | 63 => 0x3EB2C375#32
  | 64 => 0x3FD19F7B#32
  | 65 => 0x40407005#32
  | 66 => 0x3DE50778#32
  | 67 => 0x3F045AA9#32
  | 68 => 0xBF5759CE#32
  | 69 => 0x3ED1FE38#32
  | 70 => 0x3F7AD57E#32
  | 71 => 0x3DB5A738#32
  | 72 => 0x3E1550BE#32
  | 73 => 0x3F4BBB4E#32
  | 74 => 0x400E0CF7#32
  | 75 => 0x4055AF1E#32
  | 76 => 0x4038E45F#32
  | 77 => 0x40054AE5#32
  | 78 => 0x3F95C31D#32
  | 79 => 0xBEEBA8BA#32
  | 80 => 0x3F70732C#32
  | 81 => 0xBED71745#32
  | 82 => 0x3DDD4C48#32
  | 83 => 0xBE342CE2#32
  | 84 => 0x3E448B00#32
  | 85 => 0x3EB2FF9B#32
  | 86 => 0x4052C76C#32
  | 87 => 0x3FBB4FAD#32
  | 88 => 0x3E184C1B#32
  | 89 => 0xBE109631#32
  | 90 => 0x3FEDFC22#32
  | 91 => 0xBF8F6A0A#32
  | 92 => 0x409D0CED#32
  | 93 => 0xBF2276E6#32
  | 94 => 0x3FDB0D14#32
  | 95 => 0x400955DF#32
  | 96 => 0xBF21F938#32
  | 97 => 0x3FD1DD7C#32
  | 98 => 0x4020D95F#32
  | 99 => 0x3EF9312E#32
  | 100 => 0x3F2EB3F2#32
  | 101 => 0x3EAC16BA#32
  | 102 => 0x3C94A91C#32
  | 103 => 0x3FA322C4#32
  | 104 => 0xBEBD2C56#32
  | 105 => 0x403CC569#32
  | 106 => 0x40022B55#32
  | 107 => 0x3F484F9F#32
  | 108 => 0x3F69E8F4#32
  | 109 => 0xBE3F9C88#32
  | 110 => 0xBEB90EC0#32
  | 111 => 0x3E713BCA#32
  | 112 => 0x3F57B828#32
  | 113 => 0x3EE9D506#32
  | 114 => 0x3F4813B7#32
  | 115 => 0x402952F8#32
  | 116 => 0x3FBE248F#32
  | 117 => 0x3FD55B45#32
  | 118 => 0xBF1940B3#32
  | 119 => 0x4007BC71#32
  | 120 => 0x3FE7755C#32
  | 121 => 0x3DEB0C0D#32
  | 122 => 0xBF453174#32
  | 123 => 0xBE8EA7A8#32
  | 124 => 0xBE8E6852#32
  | 125 => 0xBC891F12#32
  | 126 => 0x3FA84141#32
  | 127 => 0x3F81C33E#32
  | _ => 0#32

noncomputable abbrev lit0t0_790 (i : Nat) : BitVec 32 := match i % 128 with
  | 0 => 0xBDDEBBE2#32
  | 1 => 0x408BBC55#32
  | 2 => 0xBF47718B#32
  | 3 => 0xBEFF6BB3#32
  | 4 => 0x3F1ED0FC#32
  | 5 => 0xBF75E554#32
  | 6 => 0x3F481B0E#32
  | 7 => 0x3FA27EBE#32
  | 8 => 0x3F161E40#32
  | 9 => 0x3EEC87F4#32
  | 10 => 0xBF552B50#32
  | 11 => 0x3FF1A6D3#32
  | 12 => 0x3F23EA83#32
  | 13 => 0x3D2CF2F7#32
  | 14 => 0x4003FD94#32
  | 15 => 0x3FEC5445#32
  | 16 => 0x3EADB518#32
  | 17 => 0xBF083592#32
  | 18 => 0x3F25DF3B#32
  | 19 => 0xBE9530ED#32
  | 20 => 0x4001AB0C#32
  | 21 => 0xBE646231#32
  | 22 => 0x40DF4DCD#32
  | 23 => 0x3F6A51EA#32
  | 24 => 0xBCEE004B#32
  | 25 => 0x3F870E6C#32
  | 26 => 0x40743B3D#32
  | 27 => 0x3F94EF39#32
  | 28 => 0xBD27AE1E#32
  | 29 => 0x3F15A95A#32
  | 30 => 0x3F362BC7#32
  | 31 => 0x40216C00#32
  | 32 => 0xBF0ECB4F#32
  | 33 => 0x3F24AFDF#32
  | 34 => 0xBE1BFB06#32
  | 35 => 0xBF9F305B#32
  | 36 => 0xBE3C28B3#32
  | 37 => 0x3F4EADAB#32
  | 38 => 0xBF19DB11#32
  | 39 => 0xBF3D748A#32
  | 40 => 0xBED39EBF#32
  | 41 => 0x3F8EA14E#32
  | 42 => 0x40042F45#32
  | 43 => 0x3F9A1772#32
  | 44 => 0x3F8CF226#32
  | 45 => 0x3F77A6DD#32
  | 46 => 0x3D86CEBD#32
  | 47 => 0xBF40F923#32
  | 48 => 0x402E225F#32
  | 49 => 0x400FBE6F#32
  | 50 => 0x3FB97FD9#32
  | 51 => 0xBFE370CE#32
  | 52 => 0x40BE78CD#32
  | 53 => 0x3EC79C2B#32
  | 54 => 0x3F0AC1CC#32
  | 55 => 0x3FB06ABB#32
  | 56 => 0x3F5EC506#32
  | 57 => 0x3DD6E276#32
  | 58 => 0x3F17C9B4#32
  | 59 => 0xBE658072#32
  | 60 => 0x405E0D5E#32
  | 61 => 0xBFB8267F#32
  | 62 => 0xBFB0E27B#32
  | 63 => 0x409F4177#32
  | 64 => 0xBE4D0AFD#32
  | 65 => 0xBE85BCC3#32
  | 66 => 0x3EA81310#32
  | 67 => 0x3F356627#32
  | 68 => 0x3C139AB4#32
  | 69 => 0xBF367463#32
  | 70 => 0x3EB265B0#32
  | 71 => 0xBF5DE828#32
  | 72 => 0xBF27AD55#32
  | 73 => 0xBD952822#32
  | 74 => 0xBF298FF4#32
  | 75 => 0x3EAA03F6#32
  | 76 => 0xBD906277#32
  | 77 => 0x3FC0F654#32
  | 78 => 0x3E9995B3#32
  | 79 => 0xBD38580E#32
  | 80 => 0x3EB6579B#32
  | 81 => 0x40371945#32
  | 82 => 0x3FD7096B#32
  | 83 => 0x3F498359#32
  | 84 => 0xBED3B887#32
  | 85 => 0x3F6A7148#32
  | 86 => 0x401ACF89#32
  | 87 => 0xBCCB9D4E#32
  | 88 => 0xBF3C062F#32
  | 89 => 0x3F5E3ED0#32
  | 90 => 0x3FF4E1F3#32
  | 91 => 0xBD89EA70#32
  | 92 => 0xBD2D6BFF#32
  | 93 => 0xBF840B13#32
  | 94 => 0xBF20C4AB#32
  | 95 => 0x3EB51649#32
  | 96 => 0xBF06329E#32
  | 97 => 0x402B41B7#32
  | 98 => 0xBDDFA432#32
  | 99 => 0xBEFA907E#32
  | 100 => 0xBF531257#32
  | 101 => 0x4085645D#32
  | 102 => 0x3F352D4F#32
  | 103 => 0x3F59695D#32
  | 104 => 0xBF798A26#32
  | 105 => 0x3D7604FE#32
  | 106 => 0xBFA67601#32
  | 107 => 0xBF03E04A#32
  | 108 => 0x3EAD1409#32
  | 109 => 0x3D122E89#32
  | 110 => 0x400430A2#32
  | 111 => 0x3CB78E8C#32
  | 112 => 0x3F0B87FB#32
  | 113 => 0x3F4C12E9#32
  | 114 => 0x3F882576#32
  | 115 => 0x404E3CD0#32
  | 116 => 0xBF73FF92#32
  | 117 => 0x3F1FF569#32
  | 118 => 0xBED552AE#32
  | 119 => 0x3F73030C#32
  | 120 => 0x3F412A28#32
  | 121 => 0x3F74A63C#32
  | 122 => 0xBF0A4CC9#32
  | 123 => 0xBF3B3420#32
  | 124 => 0x3E3F4B07#32
  | 125 => 0x3EB40FEC#32
  | 126 => 0xBF3EB2E8#32
  | 127 => 0xBF02380B#32
  | _ => 0#32

noncomputable abbrev lit0t0_791 (i : Nat) : BitVec 32 := match i % 128 with
  | 0 => 0x3F7BFFB4#32
  | 1 => 0x3F976A58#32
  | 2 => 0xBEBCDF6D#32
  | 3 => 0x3EFD7B82#32
  | 4 => 0xBF21B546#32
  | 5 => 0xBDC95C3E#32
  | 6 => 0x3E5DF115#32
  | 7 => 0x3FC9BB47#32
  | 8 => 0x40395D3B#32
  | 9 => 0xBF1CFA4F#32
  | 10 => 0xBF91209D#32
  | 11 => 0x40409C06#32
  | 12 => 0x3FF9E088#32
  | 13 => 0x3FD8EAC0#32
  | 14 => 0x3E0101F5#32
  | 15 => 0x3F1DAF43#32
  | 16 => 0xBF3402B5#32
  | 17 => 0xBF6C697B#32
  | 18 => 0x3EF62CFC#32
  | 19 => 0x4032FA7B#32
  | 20 => 0x3E45452D#32
  | 21 => 0xBF044C05#32
  | 22 => 0x3E7CA855#32
  | 23 => 0x3F3FFC21#32
  | 24 => 0x3F5EF26E#32
  | 25 => 0x3DDA8A84#32
  | 26 => 0x3DE7D952#32
  | 27 => 0xBE9D5D34#32
  | 28 => 0x3F237732#32
  | 29 => 0x3FA55694#32
  | 30 => 0x3E8604EA#32
  | 31 => 0x4016C687#32
  | 32 => 0xBF86AA09#32
  | 33 => 0xBDDD08E8#32
  | 34 => 0xBCB6629D#32
  | 35 => 0xBFA46252#32
  | 36 => 0xBF747624#32
  | 37 => 0x3EEFFBBC#32
  | 38 => 0xBF8278E0#32
  | 39 => 0x3D452985#32
  | 40 => 0xBFA29ADD#32
  | 41 => 0xBE3DFDB6#32
  | 42 => 0x3E259F22#32
  | 43 => 0xBE85F284#32
  | 44 => 0x40254686#32
  | 45 => 0x40010AAA#32
  | 46 => 0x3F5C4230#32
  | 47 => 0x3E11F3A5#32
  | 48 => 0x3F684274#32
  | 49 => 0x3F0928A3#32
  | 50 => 0xBE8E5921#32
  | 51 => 0xBD7C29C4#32
  | 52 => 0xBE96F068#32
  | 53 => 0xBDA74676#32
  | 54 => 0x4055B590#32
  | 55 => 0x3FD2950D#32
  | 56 => 0xBED29170#32
  | 57 => 0x3F83E906#32
  | 58 => 0x3FDC8D07#32
  | 59 => 0x3F2530B0#32
  | 60 => 0xBF2A50CB#32
  | 61 => 0x3F94B616#32
  | 62 => 0x4042A1CA#32
  | 63 => 0x3E03058B#32
  | 64 => 0xBE5DF5D6#32
  | 65 => 0xBE3BBC3D#32
  | 66 => 0xBFCD1496#32
  | 67 => 0x3EA07847#32
  | 68 => 0xBF42888C#32
  | 69 => 0x3F99DF82#32
  | 70 => 0xBEBE9994#32
  | 71 => 0x3F0CCA71#32
  | 72 => 0x3FE90AC4#32
  | 73 => 0x4004A2AB#32
  | 74 => 0x3FC57EC0#32
  | 75 => 0xBBE472AA#32
  | 76 => 0xBEDE29A6#32
  | 77 => 0x3F416F84#32
  | 78 => 0x4067C0C6#32
  | 79 => 0x3F823E52#32
  | 80 => 0x4002F8E1#32
  | 81 => 0xBDBD686A#32
  | 82 => 0xBD218751#32
  | 83 => 0x3F4F5921#32
  | 84 => 0xBFA7D2BF#32
  | 85 => 0xBF73414D#32
  | 86 => 0x3F857A12#32
  | 87 => 0x3FB8C591#32
  | 88 => 0xBF44D7B7#32
  | 89 => 0x3D219C2D#32
  | 90 => 0x3FC7983E#32
  | 91 => 0xBF28FA4B#32
  | 92 => 0xBF40FF54#32
  | 93 => 0xBC83E00D#32
  | 94 => 0xBEA6A2B9#32
  | 95 => 0x3C9D853A#32
  | 96 => 0x3F7A17BA#32
  | 97 => 0x3F4519EC#32
  | 98 => 0xBE110D57#32
  | 99 => 0xBF9C518E#32
  | 100 => 0xBF06243E#32
  | 101 => 0xBF39D7DA#32
  | 102 => 0xBF1CD018#32
  | 103 => 0x3E56D8F4#32
  | 104 => 0xBE8B5D5E#32
  | 105 => 0x3FCE99F0#32
  | 106 => 0x3F06CB1F#32
  | 107 => 0x3F3B4D7B#32
  | 108 => 0x3F89A37A#32
  | 109 => 0xBF7EC8B8#32
  | 110 => 0x3FFBA2F7#32
  | 111 => 0x3FD0DD74#32
  | 112 => 0xBE232949#32
  | 113 => 0x3F2ADA4C#32
  | 114 => 0x3F8AF338#32
  | 115 => 0x409F0E27#32
  | 116 => 0xBE4DB15C#32
  | 117 => 0x3E4750EA#32
  | 118 => 0x3EE08268#32
  | 119 => 0xBF05CAD0#32
  | 120 => 0x3FF92B71#32
  | 121 => 0x403789CB#32
  | 122 => 0xBDAE41D9#32
  | 123 => 0xBF4A932A#32
  | 124 => 0xBD213972#32
  | 125 => 0x3F8BF968#32
  | 126 => 0xBEDC5A52#32
  | 127 => 0xBF414798#32
  | _ => 0#32

noncomputable abbrev lit0t0_792 (i : Nat) : BitVec 32 := match i % 128 with
  | 0 => 0x3FD1986D#32
  | 1 => 0x3F0BA2AA#32
  | 2 => 0x3F8890BE#32
  | 3 => 0xBD55E08F#32
  | 4 => 0x3FADDE8E#32
  | 5 => 0x3F0C1608#32
  | 6 => 0x3FA0C47C#32
  | 7 => 0xBE470793#32
  | 8 => 0xBFD18D67#32
  | 9 => 0xBE5A1C39#32
  | 10 => 0x3CA0FF9F#32
  | 11 => 0xBEDADC68#32
  | 12 => 0x3F158919#32
  | 13 => 0x3F2540E5#32
  | 14 => 0x402D00FA#32
  | 15 => 0x3F179279#32
  | 16 => 0xBDE7DE9C#32
  | 17 => 0x3F72500A#32
  | 18 => 0xBF06325E#32
  | 19 => 0x3F04EE6E#32
  | 20 => 0x3F80FA9B#32
  | 21 => 0x3F79E9D5#32
  | 22 => 0x3DA13A24#32
  | 23 => 0xBF6EA66A#32
  | 24 => 0xBED094FC#32
  | 25 => 0x3F9954C6#32
  | 26 => 0xBF70FE58#32
  | 27 => 0xBFAABDC9#32
  | 28 => 0xBE872296#32
  | 29 => 0x3F9FD0AF#32
  | 30 => 0xBDCF0430#32
  | 31 => 0x3F8CB0A9#32
  | 32 => 0x3F6CED8E#32
  | 33 => 0x4076418B#32
  | 34 => 0x3E3CC517#32
  | 35 => 0x4060B95E#32
  | 36 => 0xBD88C2FE#32
  | 37 => 0x4027A348#32
  | 38 => 0xBF8242C9#32
  | 39 => 0x3E4B582C#32
  | 40 => 0x3EDAE50A#32
  | 41 => 0xBF2746A8#32
  | 42 => 0xBEA69315#32
  | 43 => 0x4091C740#32
  | 44 => 0x3F0D9B61#32
  | 45 => 0xBF8E16EC#32
  | 46 => 0x3F847FD4#32
  | 47 => 0xBF93917A#32
  | 48 => 0x3FC7AF38#32
  | 49 => 0xBB45EF68#32
  | 50 => 0x3C9D46A8#32
  | 51 => 0xBC202E64#32
  | 52 => 0xBEDB9311#32
  | 53 => 0x3EF8FBB1#32
  | 54 => 0xBCC754DB#32
  | 55 => 0x3DEE2884#32
  | 56 => 0x40176D8F#32
  | 57 => 0xBF29B0CC#32
  | 58 => 0x3EB21CD4#32
  | 59 => 0xBD6F7B52#32
  | 60 => 0x3F1EA7FE#32
  | 61 => 0x3F2B860C#32
  | 62 => 0x3DB33B2E#32
  | 63 => 0x3E9A2362#32
  | 64 => 0xBE1DDEF9#32
  | 65 => 0xBFDBDFDF#32
  | 66 => 0x40307CB2#32
  | 67 => 0xBE7E3D15#32
  | 68 => 0xBF35F69A#32
  | 69 => 0xBE90EA40#32
  | 70 => 0x4092D2AA#32
  | 71 => 0xBFB9F0BD#32
  | 72 => 0xBF0D8C18#32
  | 73 => 0xBF0BC462#32
  | 74 => 0x3F18AF3C#32
  | 75 => 0x400DB4CA#32
  | 76 => 0x3F320B6A#32
  | 77 => 0x3FF075D3#32
  | 78 => 0xBFABEEE8#32
  | 79 => 0x40113B89#32
  | 80 => 0x3FBE5F6F#32
  | 81 => 0xBF7969A6#32
  | 82 => 0x3E8B89AD#32
  | 83 => 0xBF62643C#32
  | 84 => 0x3EE9E362#32
  | 85 => 0xBE063AE1#32
  | 86 => 0x3F15D91E#32
  | 87 => 0x3DD3CB0B#32
  | 88 => 0x40021E70#32
  | 89 => 0x3F38DFF3#32
  | 90 => 0xBEF8A27D#32
  | 91 => 0x3E711304#32
  | 92 => 0x400F6A7C#32
  | 93 => 0xBF406A8A#32
  | 94 => 0x40085E05#32
  | 95 => 0x3F9116CC#32
  | 96 => 0x3EB6CD74#32
  | 97 => 0x3F6698DC#32
  | 98 => 0x3E982836#32
  | 99 => 0x3ED21EF9#32
  | 100 => 0xBF2E1E6F#32
  | 101 => 0xBEDF4BF1#32
  | 102 => 0xBE8B02C7#32
  | 103 => 0xBF83AFE7#32
  | 104 => 0xBEADE3E5#32
  | 105 => 0x4018D60E#32
  | 106 => 0xBF1CB9B8#32
  | 107 => 0x40D5042B#32
  | 108 => 0x400541AE#32
  | 109 => 0x3DF1D3C0#32
  | 110 => 0xBE88392D#32
  | 111 => 0xBCE52941#32
  | 112 => 0xBEFEA5D1#32
  | 113 => 0xBF74C0F2#32
  | 114 => 0x3E37B8F1#32
  | 115 => 0xBF53CDCB#32
  | 116 => 0xBEC6D285#32
  | 117 => 0xBF05FF8B#32
  | 118 => 0x3F4320B8#32
  | 119 => 0x3FDFF4CC#32
  | 120 => 0x3FC6140E#32
  | 121 => 0x3F9C6B37#32
  | 122 => 0x3F80D558#32
  | 123 => 0xBF087370#32
  | 124 => 0xBF925FA5#32
  | 125 => 0x400EE02C#32
  | 126 => 0x3F320371#32
  | 127 => 0x3E50AD4E#32
  | _ => 0#32

noncomputable abbrev lit0t0_793 (i : Nat) : BitVec 32 := match i % 128 with
  | 0 => 0xBDEB3294#32
  | 1 => 0xBE0452D1#32
  | 2 => 0x401B1C23#32
  | 3 => 0xBED3DF63#32
  | 4 => 0x40265F3D#32
  | 5 => 0xBF0566BA#32
  | 6 => 0x3CFD418B#32
  | 7 => 0x3F897725#32
  | 8 => 0x3F5B6E73#32
  | 9 => 0x3F11C7F2#32
  | 10 => 0x3FCC8C3A#32
  | 11 => 0xBE43218A#32
  | 12 => 0x3EB3F5CB#32
  | 13 => 0x3FA97772#32
  | 14 => 0xBF36F4CF#32
  | 15 => 0x3EB2151F#32
  | 16 => 0x4021D0EF#32
  | 17 => 0x3F8806F6#32
  | 18 => 0xBABC0177#32
  | 19 => 0xBFCB3095#32
  | 20 => 0x400A9CB4#32
  | 21 => 0xBEAE5329#32
  | 22 => 0x3C19DD60#32
  | 23 => 0x3F85730A#32
  | 24 => 0xBF89F87E#32
  | 25 => 0x3FBB367E#32
  | 26 => 0x3FAE4652#32
  | 27 => 0x401B41D8#32
  | 28 => 0xBD69E416#32
  | 29 => 0x3F29ACE3#32
  | 30 => 0x40820625#32
  | 31 => 0x402C90DB#32
  | 32 => 0xBEAD66CC#32
  | 33 => 0xBF6131CC#32
  | 34 => 0x3FC0CF25#32
  | 35 => 0xBEACD951#32
  | 36 => 0x3FC595BF#32
  | 37 => 0x3FDE6008#32
  | 38 => 0xBEAC59EE#32
  | 39 => 0x4058ABBD#32
  | 40 => 0x3E840043#32
  | 41 => 0x3F0066A1#32
  | 42 => 0x3E71B5EA#32
  | 43 => 0x3E95DE46#32
  | 44 => 0xBE8D9C49#32
  | 45 => 0x3E03FB32#32
  | 46 => 0x40549D1A#32
  | 47 => 0xBF4BB760#32
  | 48 => 0x3F00384E#32
  | 49 => 0x400295C3#32
  | 50 => 0x4018ECE6#32
  | 51 => 0xBF63921E#32
  | 52 => 0x40059B25#32
  | 53 => 0x4029603E#32
  | 54 => 0xBF43DD28#32
  | 55 => 0xBF35DC74#32
  | 56 => 0x3FA69759#32
  | 57 => 0x3F7E21BD#32
  | 58 => 0xBF07950E#32
  | 59 => 0xBF25D41D#32
  | 60 => 0x3FE4AC54#32
  | 61 => 0x3FEE67DA#32
  | 62 => 0xBF88E823#32
  | 63 => 0x3E0808B7#32
  | 64 => 0x3F9844CC#32
  | 65 => 0x3F692CEC#32
  | 66 => 0xBFAE32C5#32
  | 67 => 0x3F72E29F#32
  | 68 => 0xBE76CF6E#32
  | 69 => 0x3F82C686#32
  | 70 => 0x3F948198#32
  | 71 => 0x3FB4C463#32
  | 72 => 0x3FF0EC84#32
  | 73 => 0x3FA0BFCC#32
  | 74 => 0x3F24BD2D#32
  | 75 => 0x400EA1BA#32
  | 76 => 0xBE258E4E#32
  | 77 => 0x3F1D7916#32
  | 78 => 0x403EBF92#32
  | 79 => 0xBF0595CA#32
  | 80 => 0x3FF7F0BC#32
  | 81 => 0x3EAE227E#32
  | 82 => 0x3FFDD8BC#32
  | 83 => 0x3F402E9D#32
  | 84 => 0x3E148BBB#32
  | 85 => 0x3FE4DA95#32
  | 86 => 0x3FAE9D3F#32
  | 87 => 0x3EC3C265#32
  | 88 => 0xBFAB386C#32
  | 89 => 0x3E936524#32
  | 90 => 0x3F4B1F13#32
  | 91 => 0x3F865320#32
  | 92 => 0x3FC09364#32
  | 93 => 0x3EE7B2A5#32
  | 94 => 0xBF16479E#32
  | 95 => 0x3F95705F#32
  | 96 => 0xBF67BF7B#32
  | 97 => 0x4031B204#32
  | 98 => 0x3F8E0163#32
  | 99 => 0xBF06AFB2#32
  | 100 => 0xBDC172A5#32
  | 101 => 0xBEF9091C#32
  | 102 => 0x3F39A237#32
  | 103 => 0xBF80A21E#32
  | 104 => 0x3E744B53#32
  | 105 => 0x3F865EDC#32
  | 106 => 0x3E2E4477#32
  | 107 => 0x3F653F09#32
  | 108 => 0xBE0B5D67#32
  | 109 => 0x3F5ED4DF#32
  | 110 => 0x40894A36#32
  | 111 => 0x402F481C#32
  | 112 => 0xBD042C66#32
  | 113 => 0xBF426DFC#32
  | 114 => 0xBF638510#32
  | 115 => 0x3FC64BD4#32
  | 116 => 0xBF10426B#32
  | 117 => 0xBF8B84C8#32
  | 118 => 0x402ED253#32
  | 119 => 0x3F9CDE8C#32
  | 120 => 0x3F923FE6#32
  | 121 => 0x3E98BC34#32
  | 122 => 0x3FC03A6B#32
  | 123 => 0x3FBD4F13#32
  | 124 => 0x3CE91332#32
  | 125 => 0xBEB985F2#32
  | 126 => 0xBED61A4E#32
  | 127 => 0x3F911936#32
  | _ => 0#32

noncomputable abbrev lit0t0_794 (i : Nat) : BitVec 32 := match i % 128 with
  | 0 => 0x3F7250D8#32
  | 1 => 0xBF75FFE2#32
  | 2 => 0xBE60C4A8#32
  | 3 => 0xBEB2C005#32
  | 4 => 0xBF19DC7A#32
  | 5 => 0x406FA114#32
  | 6 => 0x3F1B7139#32
  | 7 => 0x3FBE842E#32
  | 8 => 0x3F3D4C7F#32
  | 9 => 0xBF561526#32
  | 10 => 0x3F892C46#32
  | 11 => 0x3D9FC365#32
  | 12 => 0x40103E8F#32
  | 13 => 0x3FB9C3B9#32
  | 14 => 0x3F498C16#32
  | 15 => 0x3F70C877#32
  | 16 => 0x3F7D2C48#32
  | 17 => 0x40350B88#32
  | 18 => 0x3F740C88#32
  | 19 => 0x3E45F8B9#32
  | 20 => 0x3E2B8487#32
  | 21 => 0x3D921B36#32
  | 22 => 0xBF6E5D4E#32
  | 23 => 0x404A07F9#32
  | 24 => 0x4050874A#32
  | 25 => 0xBEE7F6AF#32
  | 26 => 0xBE9C2F48#32
  | 27 => 0x3E80E542#32
  | 28 => 0x3F4FDA96#32
  | 29 => 0xBF9B79F2#32
  | 30 => 0x40358348#32
  | 31 => 0x3DD3C123#32
  | 32 => 0xBF0103BB#32
  | 33 => 0xBF255B35#32
  | 34 => 0x3FBA6315#32
  | 35 => 0x3F30B7D8#32
  | 36 => 0x3D89214E#32
  | 37 => 0x3F897B0E#32
  | 38 => 0x4066D92A#32
  | 39 => 0x3EF3F0B2#32
  | 40 => 0x3FDB93AF#32
  | 41 => 0x409364F6#32
  | 42 => 0xBEE60496#32
  | 43 => 0x3F7FFAA3#32
  | 44 => 0xBE07E7C1#32
  | 45 => 0xBC4147FE#32
  | 46 => 0xBE37474D#32
  | 47 => 0x3FF10FF8#32
  | 48 => 0x3F8E2FC8#32
  | 49 => 0x3F365F66#32
  | 50 => 0x3FCAEEA5#32
  | 51 => 0x3F2C105B#32
  | 52 => 0xBD78BC93#32
  | 53 => 0x3E9C9CE5#32
  | 54 => 0xBF4D766F#32
  | 55 => 0xBEF83E5B#32
  | 56 => 0xBEF9863A#32
  | 57 => 0x3DD4EEE2#32
  | 58 => 0x3F655660#32
  | 59 => 0x3FB1C89A#32
  | 60 => 0xBECFFF08#32
  | 61 => 0x3EDBA920#32
  | 62 => 0xBE5842A5#32
  | 63 => 0x3E543882#32
  | 64 => 0x3F9DF55A#32
  | 65 => 0xBEFBDC00#32
  | 66 => 0x3E2DAF94#32
  | 67 => 0x3F0FBF16#32
  | 68 => 0x3E808B38#32
  | 69 => 0x3FAB20A4#32
  | 70 => 0xBE4E9A77#32
  | 71 => 0x3F6A8138#32
  | 72 => 0x3EC82D7B#32
  | 73 => 0x3FD0D09C#32
  | 74 => 0x401DD43E#32
  | 75 => 0xBEAABA6A#32
  | 76 => 0xBE8644AB#32
  | 77 => 0x4030D896#32
  | 78 => 0x3FF9FBA8#32
  | 79 => 0x3FCFFCF6#32
  | 80 => 0xBE0BFBC3#32
  | 81 => 0x3FB3F719#32
  | 82 => 0xBDB36E55#32
  | 83 => 0x3FFFE2FC#32
  | 84 => 0x3E0A8475#32
  | 85 => 0xBF9CD3B0#32
  | 86 => 0xBDBA5A40#32
  | 87 => 0x3EF4F146#32
  | 88 => 0xBF585DA0#32
  | 89 => 0x3E37F7BF#32
  | 90 => 0x3FF94B35#32
  | 91 => 0xBF1DCFD0#32
  | 92 => 0x3E8F5DE1#32
  | 93 => 0x3F8A969A#32
  | 94 => 0x40033FDF#32
  | 95 => 0x3FCB2068#32
  | 96 => 0x3F753F12#32
  | 97 => 0x3FAFF765#32
  | 98 => 0x3EDB275F#32
  | 99 => 0x3FFA72A9#32
  | 100 => 0xBEEC8240#32
  | 101 => 0xBF492A68#32
  | 102 => 0x40632D3F#32
  | 103 => 0xBDDBFB5C#32
  | 104 => 0xBEE190ED#32
  | 105 => 0x3F3EF940#32
  | 106 => 0xBF049224#32
  | 107 => 0xBFA970F3#32
  | 108 => 0x3EC18DE4#32
  | 109 => 0x3F04F83D#32
  | 110 => 0xBEDE46B1#32
  | 111 => 0x3E484EE8#32
  | 112 => 0xBEC29801#32
  | 113 => 0x400243D1#32
  | 114 => 0x3FBB5D4F#32
  | 115 => 0xBE827057#32
  | 116 => 0x3E940DC8#32
  | 117 => 0xBF0338DA#32
  | 118 => 0x3CA8AE0A#32
  | 119 => 0xBE7AF869#32
  | 120 => 0x3FC59079#32
  | 121 => 0x3FF68713#32
  | 122 => 0xBEEF9B0F#32
  | 123 => 0x3F1BCF61#32
  | 124 => 0x3F717FBD#32
  | 125 => 0xBE03D065#32
  | 126 => 0xBECDF688#32
  | 127 => 0x3F59EFF8#32
  | _ => 0#32

noncomputable abbrev lit0t0_795 (i : Nat) : BitVec 32 := match i % 128 with
  | 0 => 0x404195E4#32
  | 1 => 0xBE699E04#32
  | 2 => 0xBF4C94E5#32
  | 3 => 0xBCD02D15#32
  | 4 => 0xBE51A485#32
  | 5 => 0x3F8F31AD#32
  | 6 => 0xBECA2976#32
  | 7 => 0x405E951F#32
  | 8 => 0x4022E59B#32
  | 9 => 0xBF5D0462#32
  | 10 => 0x3EB50E64#32
  | 11 => 0x3F937208#32
  | 12 => 0x3EDE98AB#32
  | 13 => 0xBED9C5B3#32
  | 14 => 0x3F1358D1#32
  | 15 => 0x3FA6B2ED#32
  | 16 => 0x3FBEEB03#32
  | 17 => 0xBD9ADB38#32
  | 18 => 0xBF590948#32
  | 19 => 0x3F5AECB4#32
  | 20 => 0x3F6AB7DA#32
  | 21 => 0x400CB909#32
  | 22 => 0xBF458FD4#32
  | 23 => 0x408A6FE2#32
  | 24 => 0x3E137250#32
  | 25 => 0x3E87B4E7#32
  | 26 => 0xBF16D322#32
  | 27 => 0xBF42B894#32
  | 28 => 0x3F8BBFEA#32
  | 29 => 0x3E2F5117#32
  | 30 => 0x3ED29F05#32
  | 31 => 0x3F02CCBD#32
  | 32 => 0x3F2455C2#32
  | 33 => 0xBEDD1AEA#32
  | 34 => 0xBF9667AB#32
  | 35 => 0x4001B9A7#32
  | 36 => 0x3E9B8A99#32
  | 37 => 0xBEE921AC#32
  | 38 => 0xBFB699F9#32
  | 39 => 0xBF14D7C6#32
  | 40 => 0xBFEF9851#32
  | 41 => 0x3E6506F8#32
  | 42 => 0x40048299#32
  | 43 => 0xBE1EA387#32
  | 44 => 0x3F856229#32
  | 45 => 0x3E57A224#32
  | 46 => 0x3E7A4BD3#32
  | 47 => 0x400AA4FF#32
  | 48 => 0xBE6C128E#32
  | 49 => 0xBE33E194#32
  | 50 => 0x3F0D18FD#32
  | 51 => 0xBF80BEBD#32
  | 52 => 0x3D08F700#32
  | 53 => 0xBB61D646#32
  | 54 => 0x4093EA9F#32
  | 55 => 0x3E81E1C5#32
  | 56 => 0x3F63CCEE#32
  | 57 => 0x3DB48295#32
  | 58 => 0xBF430D74#32
  | 59 => 0x3F694902#32
  | 60 => 0x3FC136EA#32
  | 61 => 0xBF0B6836#32
  | 62 => 0x3E915CB7#32
  | 63 => 0x3F48A4D4#32
  | 64 => 0x4039DE9D#32
  | 65 => 0xBE7BBF76#32
  | 66 => 0xBE267C07#32
  | 67 => 0x3FA285FA#32
  | 68 => 0x409223B4#32
  | 69 => 0x3F2DD873#32
  | 70 => 0xBE2FE8EF#32
  | 71 => 0x3F8760DC#32
  | 72 => 0x40B223B4#32
  | 73 => 0x3FF128B4#32
  | 74 => 0x41274143#32
  | 75 => 0xBF34E2D2#32
  | 76 => 0x4029A39E#32
  | 77 => 0x3FCA1604#32
  | 78 => 0x3F1F6D34#32
  | 79 => 0x3E9EA56A#32
  | 80 => 0x3EC98B2F#32
  | 81 => 0xBD9C734E#32
  | 82 => 0x3FB3EC83#32
  | 83 => 0xBFA6DCEA#32
  | 84 => 0x3F74BD4E#32
  | 85 => 0xBF92DB80#32
  | 86 => 0x3F741258#32
  | 87 => 0xBE45C983#32
  | 88 => 0xBD35BE1D#32
  | 89 => 0xBD8F0EAA#32
  | 90 => 0xBDE1BBD6#32
  | 91 => 0x3F3A9970#32
  | 92 => 0x3F6DFD69#32
  | 93 => 0x3FB9B088#32
  | 94 => 0xBF53D02F#32
  | 95 => 0x3FB46076#32
  | 96 => 0x3F9CEEB7#32
  | 97 => 0xBF5F6E69#32
  | 98 => 0xBF9E3A3A#32
  | 99 => 0xBEB61043#32
  | 100 => 0xBE4D024B#32
  | 101 => 0x3D219356#32
  | 102 => 0x3F93C42D#32
  | 103 => 0x4092726D#32
  | 104 => 0x3F3BD867#32
  | 105 => 0xBD2BA9A0#32
  | 106 => 0x409141F0#32
  | 107 => 0x3F3556D7#32
  | 108 => 0xBF160874#32
  | 109 => 0xBEBF65AC#32
  | 110 => 0x3FCF96E0#32
  | 111 => 0xBE14C360#32
  | 112 => 0x3EC13EFB#32
  | 113 => 0x3F264853#32
  | 114 => 0xBEA945BC#32
  | 115 => 0xBE7F1E01#32
  | 116 => 0x3ED43928#32
  | 117 => 0x3F1FE5ED#32
  | 118 => 0xBF56FD47#32
  | 119 => 0xBF290541#32
  | 120 => 0x3FB02752#32
  | 121 => 0x3FC6562D#32
  | 122 => 0xBF5C33C6#32
  | 123 => 0x3D15B2D9#32
  | 124 => 0xBF0D7D10#32
  | 125 => 0x3F9B92BF#32
  | 126 => 0x3D47B33F#32
  | 127 => 0xBF222893#32
  | _ => 0#32

noncomputable abbrev lit0t0_796 (i : Nat) : BitVec 32 := match i % 128 with
  | 0 => 0x3F81DBB8#32
  | 1 => 0x3F03CEE6#32
  | 2 => 0xBE2FCCE7#32
  | 3 => 0x3DE67F26#32
  | 4 => 0x3F029102#32
  | 5 => 0xBDA2889E#32
  | 6 => 0xBF85EC36#32
  | 7 => 0x3F75DA10#32
  | 8 => 0x4023AA04#32
  | 9 => 0x3F48579C#32
  | 10 => 0xBF6C41A1#32
  | 11 => 0x3F9C3D3A#32
  | 12 => 0xBEB66C4B#32
  | 13 => 0x3F9E321B#32
  | 14 => 0xBFBB9BB8#32
  | 15 => 0xBF9DAAB1#32
  | 16 => 0x3FB1166A#32
  | 17 => 0x3FC1B84C#32
  | 18 => 0x3E9CF7D4#32
  | 19 => 0xBF632C97#32
  | 20 => 0xBF356339#32
  | 21 => 0x3F7F2381#32
  | 22 => 0x4011D8F9#32
  | 23 => 0x3F448C75#32
  | 24 => 0xBDAB487D#32
  | 25 => 0x3FF3E530#32
  | 26 => 0xBECCEB45#32
  | 27 => 0xBE8939BD#32
  | 28 => 0x4043A26D#32
  | 29 => 0xBF03CBFB#32
  | 30 => 0xBF1B7680#32
  | 31 => 0xBEF04480#32
  | 32 => 0xBF157991#32
  | 33 => 0xBE96A78C#32
  | 34 => 0xBF459D40#32
  | 35 => 0xBEBF8B93#32
  | 36 => 0xBD77E6B1#32
  | 37 => 0xBEE2C324#32
  | 38 => 0xBF5419B4#32
  | 39 => 0xBF02F845#32
  | 40 => 0xBFD1D7BA#32
  | 41 => 0x404FEE49#32
  | 42 => 0x404B9AD0#32
  | 43 => 0x3EF380C6#32
  | 44 => 0xBD07ABA5#32
  | 45 => 0x3FE8B459#32
  | 46 => 0xBEFC17BA#32
  | 47 => 0x40A5C27B#32
  | 48 => 0xBF4C7437#32
  | 49 => 0x3F027F13#32
  | 50 => 0x3DDBAAE6#32
  | 51 => 0x40017B06#32
  | 52 => 0xBF4D675E#32
  | 53 => 0xBDF1A8B8#32
  | 54 => 0x4044962C#32
  | 55 => 0x3ECB1E03#32
  | 56 => 0xBDA507AA#32
  | 57 => 0xBE9335A5#32
  | 58 => 0x3FCE68A5#32
  | 59 => 0xBF3E6588#32
  | 60 => 0x3FE0679D#32
  | 61 => 0xBE1A3815#32
  | 62 => 0x3C05A56A#32
  | 63 => 0xBE61DDED#32
  | 64 => 0xBF5F076E#32
  | 65 => 0xBEFADBD8#32
  | 66 => 0x3FF17E4A#32
  | 67 => 0x3FD23BD0#32
  | 68 => 0xBDC00EC4#32
  | 69 => 0x4074018F#32
  | 70 => 0xBF562298#32
  | 71 => 0x3E35864D#32
  | 72 => 0xBF7201C4#32
  | 73 => 0x3FE242C7#32
  | 74 => 0x3F8C4B50#32
  | 75 => 0x3E2115D6#32
  | 76 => 0x40603752#32
  | 77 => 0x3EDE2C18#32
  | 78 => 0x3FA64DEA#32
  | 79 => 0x3FEE56D7#32
  | 80 => 0x3FBF582E#32
  | 81 => 0x3FDF9CE7#32
  | 82 => 0x40438A98#32
  | 83 => 0xBF0E2D42#32
  | 84 => 0xBF37A1BE#32
  | 85 => 0xBF7C2C32#32
  | 86 => 0x3F8D9546#32
  | 87 => 0x3FCD1DDE#32
  | 88 => 0x3FF2913D#32
  | 89 => 0xBE8D3E0A#32
  | 90 => 0xBF3B5F34#32
  | 91 => 0x3F619AA9#32
  | 92 => 0x401297A1#32
  | 93 => 0x3FD6ECD8#32
  | 94 => 0x3F805DC5#32
  | 95 => 0x3DB8BBB0#32
  | 96 => 0xBF34F660#32
  | 97 => 0x3F208767#32
  | 98 => 0x3EB8AA6B#32
  | 99 => 0x4018B1AA#32
  | 100 => 0x4080A28B#32
  | 101 => 0x3F0CC4C1#32
  | 102 => 0x3ECE6410#32
  | 103 => 0x3E02A36E#32
  | 104 => 0x3E94E10A#32
  | 105 => 0x3F56047C#32
  | 106 => 0x3F77FA02#32
  | 107 => 0x3F5D16FF#32
  | 108 => 0x3EB78118#32
  | 109 => 0x3FCA39BE#32
  | 110 => 0x3FCF2DA7#32
  | 111 => 0xBE778B52#32
  | 112 => 0xBE7AC7C8#32
  | 113 => 0x3F42BC76#32
  | 114 => 0x3F826045#32
  | 115 => 0x3D0C118C#32
  | 116 => 0xBE4A016E#32
  | 117 => 0x3EA31EEB#32
  | 118 => 0x3F8A4B52#32
  | 119 => 0x3D934C6F#32
  | 120 => 0x3C06DF39#32
  | 121 => 0x3F1A6EEB#32
  | 122 => 0x3ED1B9D5#32
  | 123 => 0xBDBC26C9#32
  | 124 => 0x3FB3FFFB#32
  | 125 => 0xBF8F27B0#32
  | 126 => 0x3F453B45#32
  | 127 => 0x401D6A8B#32
  | _ => 0#32

noncomputable abbrev lit0t0_797 (i : Nat) : BitVec 32 := match i % 128 with
  | 0 => 0x3F8D0CFD#32
  | 1 => 0x408F618D#32
  | 2 => 0x3E916012#32
  | 3 => 0xBF5464BF#32
  | 4 => 0x3F3525C2#32
  | 5 => 0x3F2DC7FF#32
  | 6 => 0x3F2033FC#32
  | 7 => 0xBF4705AC#32
  | 8 => 0xBCD1D36C#32
  | 9 => 0x4037524B#32
  | 10 => 0xBDC91329#32
  | 11 => 0x401DC794#32
  | 12 => 0x3F72CEA8#32
  | 13 => 0x4002D895#32
  | 14 => 0x3F28CEC5#32
  | 15 => 0x40614541#32
  | 16 => 0xBE80DF6D#32
  | 17 => 0xBE90600E#32
  | 18 => 0x3F1CF0E5#32
  | 19 => 0xBEA21F6C#32
  | 20 => 0xBE2C4AB7#32
  | 21 => 0x3E2153A3#32
  | 22 => 0x3F5C7FD5#32
  | 23 => 0xBED6FD41#32
  | 24 => 0x3FCC660C#32
  | 25 => 0xBF8C0DAE#32
  | 26 => 0x3FFED60F#32
  | 27 => 0x3FBECC11#32
  | 28 => 0xBF5A762E#32
  | 29 => 0xBF6D7AD3#32
  | 30 => 0x40BFE437#32
  | 31 => 0x403F661C#32
  | 32 => 0x3DB916F0#32
  | 33 => 0x3F520E65#32
  | 34 => 0x3E821F82#32
  | 35 => 0x3E43EC29#32
  | 36 => 0x405281BC#32
  | 37 => 0xBE2EE03B#32
  | 38 => 0xBF16C811#32
  | 39 => 0x400B2075#32
  | 40 => 0x3EBCB8CC#32
  | 41 => 0x406522C4#32
  | 42 => 0x3D262364#32
  | 43 => 0xBC9FF70F#32
  | 44 => 0xBCF55D98#32
  | 45 => 0xBF2FBE64#32
  | 46 => 0x40033364#32
  | 47 => 0x3E20B4F9#32
  | 48 => 0xBE7A1C65#32
  | 49 => 0x3F4939EE#32
  | 50 => 0xBD915093#32
  | 51 => 0xBE117CC3#32
  | 52 => 0x3F2E8038#32
  | 53 => 0x3E8ACA65#32
  | 54 => 0x3EA0938C#32
  | 55 => 0xBF1F54B7#32
  | 56 => 0xBE69C84C#32
  | 57 => 0x3EBAC792#32
  | 58 => 0x3FCBEFA9#32
  | 59 => 0xBEE946A6#32
  | 60 => 0xBFB19F71#32
  | 61 => 0x3FA6EA1D#32
  | 62 => 0xBEF2F96C#32
  | 63 => 0x3FEA8883#32
  | 64 => 0x3FED1401#32
  | 65 => 0x4016C939#32
  | 66 => 0x3F8C498A#32
  | 67 => 0x3FE57870#32
  | 68 => 0x3EA9DCA5#32
  | 69 => 0xBF31AC79#32
  | 70 => 0xBF46D14F#32
  | 71 => 0x3F86969F#32
  | 72 => 0xBF8D4A24#32
  | 73 => 0xBCA876C2#32
  | 74 => 0xBEA1DC78#32
  | 75 => 0x3FA70205#32
  | 76 => 0x40069323#32
  | 77 => 0x3E6A8C27#32
  | 78 => 0xBE10FC56#32
  | 79 => 0x40051A06#32
  | 80 => 0x3FB29418#32
  | 81 => 0x3FC28F69#32
  | 82 => 0xBF9D8ED1#32
  | 83 => 0x3FDBAB0A#32
  | 84 => 0xBF6A4B76#32
  | 85 => 0x3FAB4995#32
  | 86 => 0x3E4F7A4F#32
  | 87 => 0x40594D5E#32
  | 88 => 0x3F44F2BB#32
  | 89 => 0xBE57BC23#32
  | 90 => 0x3DEF86E6#32
  | 91 => 0xBD634DBF#32
  | 92 => 0x3E4F469C#32
  | 93 => 0x3E880DD1#32
  | 94 => 0x3FF472A7#32
  | 95 => 0x3BB4D07A#32
  | 96 => 0x3F950081#32
  | 97 => 0x40051632#32
  | 98 => 0xBE24D646#32
  | 99 => 0x400D63C3#32
  | 100 => 0x3F7029CE#32
  | 101 => 0x3F8CC0C8#32
  | 102 => 0x3D012398#32
  | 103 => 0x3FC4E515#32
  | 104 => 0x3F41EAD5#32
  | 105 => 0xBF100082#32
  | 106 => 0x40830627#32
  | 107 => 0xBE3F736C#32
  | 108 => 0x3F50B390#32
  | 109 => 0x3EDB31C6#32
  | 110 => 0x3F1F9BA8#32
  | 111 => 0xBF9C4FBE#32
  | 112 => 0x3EB7A2C6#32
  | 113 => 0xBF92470A#32
  | 114 => 0x3FD10D6D#32
  | 115 => 0xBF606530#32
  | 116 => 0x4015EC28#32
  | 117 => 0x3EA0D5CD#32
  | 118 => 0xBF81BDA4#32
  | 119 => 0x3F2AFDEE#32
  | 120 => 0x3FDC0D7A#32
  | 121 => 0xBF632E1F#32
  | 122 => 0xBE8D1924#32
  | 123 => 0x4032D4B0#32
  | 124 => 0xBEE59822#32
  | 125 => 0xBEB28C12#32
  | 126 => 0x3D4FC5E7#32
  | 127 => 0xBD0FDBA3#32
  | _ => 0#32

noncomputable abbrev lit0t0_798 (i : Nat) : BitVec 32 := match i % 128 with
  | 0 => 0xBFB573CA#32
  | 1 => 0x3F24740B#32
  | 2 => 0x3F04E41A#32
  | 3 => 0x404E698B#32
  | 4 => 0x40012CBB#32
  | 5 => 0x3F3497DD#32
  | 6 => 0x3FC300E6#32
  | 7 => 0xBE511291#32
  | 8 => 0xBEB68DE1#32
  | 9 => 0x4009F305#32
  | 10 => 0x3F98E090#32
  | 11 => 0x3F5A00F7#32
  | 12 => 0x408EF6CE#32
  | 13 => 0x3E40F963#32
  | 14 => 0x3F801758#32
  | 15 => 0x40187419#32
  | 16 => 0x3F046E74#32
  | 17 => 0xBF30366A#32
  | 18 => 0x40283747#32
  | 19 => 0x3F241F99#32
  | 20 => 0x3F5FD3A7#32
  | 21 => 0xBF8F841D#32
  | 22 => 0x3E4A2999#32
  | 23 => 0x3F0ED4AC#32
  | 24 => 0x403292FD#32
  | 25 => 0xBE5BA50C#32
  | 26 => 0xBF09CA70#32
  | 27 => 0x3F19A1E3#32
  | 28 => 0x3F4912B3#32
  | 29 => 0x3FCC3B5E#32
  | 30 => 0x3F1DD0DC#32
  | 31 => 0xBEB932E0#32
  | 32 => 0x3FF02DFE#32
  | 33 => 0xBD9CB289#32
  | 34 => 0x3F990B60#32
  | 35 => 0xBF4D3645#32
  | 36 => 0xBF099A4C#32
  | 37 => 0x4026DDA0#32
  | 38 => 0xBF39FFAB#32
  | 39 => 0xBD94B5D2#32
  | 40 => 0x3F7A6B38#32
  | 41 => 0x3F3C6FEF#32
  | 42 => 0xBF08619A#32
  | 43 => 0xBEABC104#32
  | 44 => 0x3EC30873#32
  | 45 => 0x402FBB73#32
  | 46 => 0x3F825D72#32
  | 47 => 0xBE8BF1D7#32
  | 48 => 0xBF44F59B#32
  | 49 => 0x3ED352BA#32
  | 50 => 0xBE792B21#32
  | 51 => 0x3CEFDB79#32
  | 52 => 0x3FBE3F71#32
  | 53 => 0xBDBF88F7#32
  | 54 => 0xBECD32FA#32
  | 55 => 0x3F95B798#32
  | 56 => 0x3F42F2B4#32
  | 57 => 0x3F7C4D0B#32
  | 58 => 0x3F139AC8#32
  | 59 => 0xBEFBA1D0#32
  | 60 => 0xBEA878E2#32
  | 61 => 0xBDF5A939#32
  | 62 => 0x3E1014BC#32
  | 63 => 0x3F92BB9C#32
  | 64 => 0xBEC63366#32
  | 65 => 0xBEE4FF3E#32
  | 66 => 0x3D3C59F5#32
  | 67 => 0x3D22A40B#32
  | 68 => 0xBCA67F29#32
  | 69 => 0xBDBF7D2F#32
  | 70 => 0xBFAFEAD8#32
  | 71 => 0x3F8009BB#32
  | 72 => 0xBF4793E2#32
  | 73 => 0x40380915#32
  | 74 => 0x400F5C66#32
  | 75 => 0x3D219507#32
  | 76 => 0xBE297167#32
  | 77 => 0xBF286759#32
  | 78 => 0x3EE201C9#32
  | 79 => 0x3F45CAE7#32
  | 80 => 0xBEC2029F#32
  | 81 => 0x3FEFA93E#32
  | 82 => 0x40059316#32
  | 83 => 0x3F04890D#32
  | 84 => 0x3F37A5DC#32
  | 85 => 0xBE060C01#32
  | 86 => 0x3FBCA701#32
  | 87 => 0x400F1F9B#32
  | 88 => 0xBE62545B#32
  | 89 => 0xBF10F0A4#32
  | 90 => 0xBF44A2D9#32
  | 91 => 0xBF0EC6E5#32
  | 92 => 0xBE45640B#32
  | 93 => 0x3F6AE31D#32
  | 94 => 0xBF072BC2#32
  | 95 => 0xBF2C1093#32
  | 96 => 0x3FBA6293#32
  | 97 => 0x3D7D4BB3#32
  | 98 => 0xBEBD5842#32
  | 99 => 0xBECE9CC1#32
  | 100 => 0xBE8224E1#32
  | 101 => 0x3F90CECE#32
  | 102 => 0x3FA0095E#32
  | 103 => 0xBF8D6E4E#32
  | 104 => 0x3F847810#32
  | 105 => 0xBF3548FE#32
  | 106 => 0xBF262BA5#32
  | 107 => 0xBF750866#32
  | 108 => 0x3DF1A9A7#32
  | 109 => 0x3F9E76B0#32
  | 110 => 0x400EB261#32
  | 111 => 0x3F2298C8#32
  | 112 => 0xBE96694E#32
  | 113 => 0x3E209138#32
  | 114 => 0x3EC68DCB#32
  | 115 => 0x3EB2C57B#32
  | 116 => 0x3FADFBFA#32
  | 117 => 0x3F1497A1#32
  | 118 => 0xBEA29113#32
  | 119 => 0xBE2A48A2#32
  | 120 => 0xBE384BD6#32
  | 121 => 0xBEE6C16E#32
  | 122 => 0x3F5E0DEA#32
  | 123 => 0x4084E69E#32
  | 124 => 0xBF192EE0#32
  | 125 => 0x3F9B5CDD#32
  | 126 => 0x3F1A4BD2#32
  | 127 => 0xBED7480D#32
  | _ => 0#32

noncomputable abbrev lit0t0_799 (i : Nat) : BitVec 32 := match i % 128 with
  | 0 => 0xBF579F6C#32
  | 1 => 0xBEFE9D83#32
  | 2 => 0xBF7844A5#32
  | 3 => 0xBEF91805#32
  | 4 => 0xBBF502EC#32
  | 5 => 0xBE92C969#32
  | 6 => 0xBDBF1DF2#32
  | 7 => 0x3F0632B8#32
  | 8 => 0xBF0200F8#32
  | 9 => 0x40109C5F#32
  | 10 => 0x3F90A7B4#32
  | 11 => 0x3EF9E014#32
  | 12 => 0xBF3A5E4E#32
  | 13 => 0x406B6335#32
  | 14 => 0x3F84C461#32
  | 15 => 0xBF8E5B74#32
  | 16 => 0x3C99A018#32
  | 17 => 0xBEA997A6#32
  | 18 => 0x400D59A4#32
  | 19 => 0x3FF0D147#32
  | 20 => 0x401C2CF9#32
  | 21 => 0x3DD8101E#32
  | 22 => 0xBEA3CEA2#32
  | 23 => 0x3FB35DA8#32
  | 24 => 0xBF6B7931#32
  | 25 => 0x3D670CB1#32
  | 26 => 0x3F98AE1A#32
  | 27 => 0x3F29C066#32
  | 28 => 0xBF9B3169#32
  | 29 => 0x3F60A4D7#32
  | 30 => 0xBF89DD8C#32
  | 31 => 0x3FDA76AE#32
  | 32 => 0x3FB6A5B1#32
  | 33 => 0xBF34A471#32
  | 34 => 0x3FB9BC59#32
  | 35 => 0x3CC6575E#32
  | 36 => 0xBE84113D#32
  | 37 => 0x3ECB9CE1#32
  | 38 => 0x3F2EE74E#32
  | 39 => 0x3EA2B62D#32
  | 40 => 0xBEC8A60B#32
  | 41 => 0xBFE38844#32
  | 42 => 0xBF213E58#32
  | 43 => 0x3F960EFF#32
  | 44 => 0x3EA4B0D7#32
  | 45 => 0x3F506046#32
  | 46 => 0xBF6902A0#32
  | 47 => 0x3EA872E1#32
  | 48 => 0xBFBE956F#32
  | 49 => 0x3E84664D#32
  | 50 => 0x40397A97#32
  | 51 => 0x4005A786#32
  | 52 => 0x3FEEAD14#32
  | 53 => 0xBFA90F47#32
  | 54 => 0xBF87FB68#32
  | 55 => 0x4007CE4C#32
  | 56 => 0xBF0C39E9#32
  | 57 => 0xBE814FCE#32
  | 58 => 0xBCE9F9AA#32
  | 59 => 0x3E53C35B#32
  | 60 => 0x40118502#32
  | 61 => 0x3E73D9B2#32
  | 62 => 0x40B21932#32
  | 63 => 0xBEA65114#32
  | 64 => 0x3F06BDB9#32
  | 65 => 0xBE2CCBB9#32
  | 66 => 0x3D256C83#32
  | 67 => 0xBF9851F7#32
  | 68 => 0x3FD3BD07#32
  | 69 => 0x4004977F#32
  | 70 => 0x3F7838F0#32
  | 71 => 0x3F880D18#32
  | 72 => 0xBEC0DE5B#32
  | 73 => 0xBD9ECC2C#32
  | 74 => 0xBFA8CEDE#32
  | 75 => 0x3E85EF88#32
  | 76 => 0x3F175435#32
  | 77 => 0x3FB793EE#32
  | 78 => 0x3EEEE1E0#32
  | 79 => 0x3F16792C#32
  | 80 => 0x3C26EA6D#32
  | 81 => 0x3F914A35#32
  | 82 => 0x3FFBE329#32
  | 83 => 0x3FBA77CC#32
  | 84 => 0xBE3081C5#32
  | 85 => 0xBE731020#32
  | 86 => 0xBE8425A3#32
  | 87 => 0x3FF8D33B#32
  | 88 => 0xBCE97446#32
  | 89 => 0x3F986581#32
  | 90 => 0xBF848B7E#32
  | 91 => 0xBF45006A#32
  | 92 => 0x3EFEC720#32
  | 93 => 0xBE8E92DE#32
  | 94 => 0xBE1C3DAC#32
  | 95 => 0x3FA267D8#32
  | 96 => 0x3F0D2448#32
  | 97 => 0xBE12512C#32
  | 98 => 0xBEAC4460#32
  | 99 => 0x3FEBE084#32
  | 100 => 0xBEB492DB#32
  | 101 => 0x3FE2E600#32
  | 102 => 0x3F8C3F6A#32
  | 103 => 0xBECA492C#32
  | 104 => 0x3FCC9E8E#32
  | 105 => 0xBE18F3C1#32
  | 106 => 0x3F960575#32
  | 107 => 0xBF878FB4#32
  | 108 => 0x40240B6E#32
  | 109 => 0x3FA9D909#32
  | 110 => 0x3E1FA78D#32
  | 111 => 0x3F8E8C8E#32
  | 112 => 0xBE355C2C#32
  | 113 => 0xBEB5F16D#32
  | 114 => 0x3F8F6FED#32
  | 115 => 0x3F5BF7B8#32
  | 116 => 0x3FAB3BAA#32
  | 117 => 0xBEFECDAE#32
  | 118 => 0xBF4B7DCA#32
  | 119 => 0x3FDE9514#32
  | 120 => 0xBF6A1428#32
  | 121 => 0xBF900EC3#32
  | 122 => 0xBE893C79#32
  | 123 => 0x3FB149EA#32
  | 124 => 0xBE1A5EAE#32
  | 125 => 0x3FB18108#32
  | 126 => 0xBEB50A64#32
  | 127 => 0xBEA8EAA0#32
  | _ => 0#32

noncomputable abbrev lit0t0_800 (i : Nat) : BitVec 32 := match i % 128 with
  | 0 => 0xBFBB2E2F#32
  | 1 => 0x3F85FB78#32
  | 2 => 0x3EACF740#32
  | 3 => 0x3F76FAE8#32
  | 4 => 0x3D5AB0F0#32
  | 5 => 0xBE3C68F3#32
  | 6 => 0x3FD5704A#32
  | 7 => 0x3FC21A15#32
  | 8 => 0x3EB87483#32
  | 9 => 0xBF1D99A0#32
  | 10 => 0xBEE2FADB#32
  | 11 => 0x4069D722#32
  | 12 => 0xBF00C0ED#32
  | 13 => 0xBE1B6D68#32
  | 14 => 0x3EEB8A8B#32
  | 15 => 0xBC60EFE6#32
  | 16 => 0x403FBE27#32
  | 17 => 0x408E7217#32
  | 18 => 0xBF085DA5#32
  | 19 => 0x3ECBC681#32
  | 20 => 0x3F3CDD6C#32
  | 21 => 0x3F765AE4#32
  | 22 => 0x401D7BA0#32
  | 23 => 0x3FD93D48#32
  | 24 => 0x3EC88520#32
  | 25 => 0x3FB9BE03#32
  | 26 => 0xBEB77A54#32
  | 27 => 0x3F0A390D#32
  | 28 => 0xBF160C8C#32
  | 29 => 0xBE9990B8#32
  | 30 => 0xBDABF58D#32
  | 31 => 0x3D48A721#32
  | 32 => 0xBF85E01B#32
  | 33 => 0x3F83EAFD#32
  | 34 => 0xBF8734F2#32
  | 35 => 0x3FC711CE#32
  | 36 => 0xBED47F67#32
  | 37 => 0xBF2296D6#32
  | 38 => 0x3F52DD52#32
  | 39 => 0x3E2BF4DB#32
  | 40 => 0x3ED4756B#32
  | 41 => 0x3F950171#32
  | 42 => 0xBF012764#32
  | 43 => 0xBDC37158#32
  | 44 => 0xBCD197B7#32
  | 45 => 0x3EE37B0C#32
  | 46 => 0x3E12DC19#32
  | 47 => 0x3F83AD4A#32
  | 48 => 0x40029F73#32
  | 49 => 0x3F4CC63C#32
  | 50 => 0xBF6A1B69#32
  | 51 => 0x3E7C0AFF#32
  | 52 => 0x3EE0FA0F#32
  | 53 => 0x3E1F1DFD#32
  | 54 => 0x3EE91EEE#32
  | 55 => 0x400D1F9C#32
  | 56 => 0xBEA9F4F9#32
  | 57 => 0x3F1ECFCF#32
  | 58 => 0x3EF41342#32
  | 59 => 0x3F106498#32
  | 60 => 0xBF687C6A#32
  | 61 => 0x3F9F77BA#32
  | 62 => 0x3DC5FC2F#32
  | 63 => 0x3E20E22E#32
  | 64 => 0xBF18D548#32
  | 65 => 0xBF8799BC#32
  | 66 => 0xBEF9B5A6#32
  | 67 => 0x3E41449D#32
  | 68 => 0xBF67E750#32
  | 69 => 0xBF56C622#32
  | 70 => 0xBF526098#32
  | 71 => 0x3FC7055B#32
  | 72 => 0xBF45A3C9#32
  | 73 => 0xBF2F6924#32
  | 74 => 0x3E4DA521#32
  | 75 => 0x3FDD47E4#32
  | 76 => 0x3EDF7847#32
  | 77 => 0x3EB4CB13#32
  | 78 => 0x3DA16202#32
  | 79 => 0xBF7D4D4B#32
  | 80 => 0x40420A08#32
  | 81 => 0x3FC89A94#32
  | 82 => 0x3F1EF9EE#32
  | 83 => 0x3EFE0E24#32
  | 84 => 0xBE9A66E3#32
  | 85 => 0xBD8E1FB5#32
  | 86 => 0x3E4C567F#32
  | 87 => 0x3EA87062#32
  | 88 => 0x3F817F30#32
  | 89 => 0x3FAC9EC6#32
  | 90 => 0xBF2FBE2A#32
  | 91 => 0x3D938C1B#32
  | 92 => 0xBF8FF7A8#32
  | 93 => 0xBEEECEDB#32
  | 94 => 0xBF9AA5BD#32
  | 95 => 0x40A212A0#32
  | 96 => 0x3D366411#32
  | 97 => 0x3FE509C1#32
  | 98 => 0x3E446C25#32
  | 99 => 0xBF6E86CC#32
  | 100 => 0xBE82C04C#32
  | 101 => 0x400514F9#32
  | 102 => 0x400A8445#32
  | 103 => 0xBF50E430#32
  | 104 => 0xBE5EF8F5#32
  | 105 => 0x3EA9523C#32
  | 106 => 0x3EFFD032#32
  | 107 => 0x3D953D6C#32
  | 108 => 0x3EDA7FEB#32
  | 109 => 0xBECA1D27#32
  | 110 => 0xBD4572A3#32
  | 111 => 0xBF8924F4#32
  | 112 => 0x401607B9#32
  | 113 => 0x3E0C0EB0#32
  | 114 => 0x403D4EA8#32
  | 115 => 0x3C97757C#32
  | 116 => 0x3F4E4C6B#32
  | 117 => 0x3E86C4EF#32
  | 118 => 0xBF223901#32
  | 119 => 0x3CDF0295#32
  | 120 => 0xBFF7F645#32
  | 121 => 0x3FB56835#32
  | 122 => 0x3E7BBA78#32
  | 123 => 0xBF8C2C74#32
  | 124 => 0x400A0941#32
  | 125 => 0xBC64E1D0#32
  | 126 => 0xBECCD08C#32
  | 127 => 0xBEC0FA66#32
  | _ => 0#32

noncomputable abbrev lit0t0_801 (i : Nat) : BitVec 32 := match i % 128 with
  | 0 => 0x3FDDCAD4#32
  | 1 => 0x3FD03840#32
  | 2 => 0x3EAE1E06#32
  | 3 => 0x3FB5993C#32
  | 4 => 0xBF349598#32
  | 5 => 0xBEDBCCF4#32
  | 6 => 0x3FE9D332#32
  | 7 => 0x3E900E36#32
  | 8 => 0x3FDF2DE3#32
  | 9 => 0x3F029C94#32
  | 10 => 0x3EC29300#32
  | 11 => 0x3F88D0C4#32
  | 12 => 0xBDE3469C#32
  | 13 => 0x4073630C#32
  | 14 => 0x3F9358F2#32
  | 15 => 0xBE426318#32
  | 16 => 0x3F00B3F8#32
  | 17 => 0x3EFF9EE0#32
  | 18 => 0x3F6B558A#32
  | 19 => 0x3E226E05#32
  | 20 => 0xBECFBD5E#32
  | 21 => 0x3EB084F5#32
  | 22 => 0xBEF5C572#32
  | 23 => 0xBDE38D96#32
  | 24 => 0x3FEB9806#32
  | 25 => 0x3F955EDD#32
  | 26 => 0x3FB9393A#32
  | 27 => 0xBEE4A152#32
  | 28 => 0xBF7D9020#32
  | 29 => 0xBF28D7E4#32
  | 30 => 0x40263F5C#32
  | 31 => 0xBF7B5557#32
  | 32 => 0xBF2652A5#32
  | 33 => 0x3C0DDD88#32
  | 34 => 0x3FCA37AC#32
  | 35 => 0x3FF7BDE7#32
  | 36 => 0x3FAD7011#32
  | 37 => 0x3FD06D36#32
  | 38 => 0xBFC899C6#32
  | 39 => 0xBE3FB83C#32
  | 40 => 0x3F6EBBF8#32
  | 41 => 0x3F8A0A01#32
  | 42 => 0x3F62CBC7#32
  | 43 => 0x3EBDD4A4#32
  | 44 => 0xBE2983F1#32
  | 45 => 0x3F68F03E#32
  | 46 => 0x3F0F2FEE#32
  | 47 => 0x400A7578#32
  | 48 => 0xBF1211EE#32
  | 49 => 0xBF625A81#32
  | 50 => 0x3D8211FB#32
  | 51 => 0x3EB70CC3#32
  | 52 => 0x3EE5D815#32
  | 53 => 0x3FD2720E#32
  | 54 => 0xBEC282A7#32
  | 55 => 0xBF20CD08#32
  | 56 => 0xBECECAC8#32
  | 57 => 0x3F20F0B1#32
  | 58 => 0x40920424#32
  | 59 => 0x3EAABF43#32
  | 60 => 0xBE201EB3#32
  | 61 => 0xBE978122#32
  | 62 => 0xBDAD6FC5#32
  | 63 => 0x40712F6A#32
  | 64 => 0xBF2B931E#32
  | 65 => 0x3FFD9EBD#32
  | 66 => 0x3FB5EB78#32
  | 67 => 0x3FB2E42F#32
  | 68 => 0xBFAD6DE7#32
  | 69 => 0x3E8F5F98#32
  | 70 => 0x400F3215#32
  | 71 => 0x40927A7C#32
  | 72 => 0x4020C18A#32
  | 73 => 0xBE783E65#32
  | 74 => 0x3EF97772#32
  | 75 => 0x3E94BC7D#32
  | 76 => 0xBE530698#32
  | 77 => 0x3F814E30#32
  | 78 => 0xBE77F124#32
  | 79 => 0x3EB189F0#32
  | 80 => 0xBE4D4888#32
  | 81 => 0xBF5A7290#32
  | 82 => 0xBECC0905#32
  | 83 => 0xBEBDCF44#32
  | 84 => 0x3E124FAF#32
  | 85 => 0xBD5D9925#32
  | 86 => 0x3FDF507D#32
  | 87 => 0x400F3B9D#32
  | 88 => 0x3E10E80B#32
  | 89 => 0x3FA6AD15#32
  | 90 => 0xBE902E5A#32
  | 91 => 0x3F283033#32
  | 92 => 0xBFA81A8E#32
  | 93 => 0x3F7FD42D#32
  | 94 => 0x3F19236F#32
  | 95 => 0x40146F77#32
  | 96 => 0xBEAD32FB#32
  | 97 => 0xBED65209#32
  | 98 => 0x4013165E#32
  | 99 => 0xBEC09EC8#32
  | 100 => 0x3F3F9234#32
  | 101 => 0x3FB0219A#32
  | 102 => 0xBF5A71A9#32
  | 103 => 0x3D792C16#32
  | 104 => 0x3F99492B#32
  | 105 => 0x3F1349A8#32
  | 106 => 0x3F8A3909#32
  | 107 => 0xBFB62AF4#32
  | 108 => 0xBFAB84B1#32
  | 109 => 0xBF39EAAB#32
  | 110 => 0x3EDF67B8#32
  | 111 => 0x3E4F516B#32
  | 112 => 0x3FC08D77#32
  | 113 => 0xBFC077F2#32
  | 114 => 0x3FC22464#32
  | 115 => 0x3F6F9299#32
  | 116 => 0x3F5495F2#32
  | 117 => 0xBF9CB863#32
  | 118 => 0xBECFF31F#32
  | 119 => 0x403BF9E0#32
  | 120 => 0x3FA1A376#32
  | 121 => 0xBE9530ED#32
  | 122 => 0x3ED305DA#32
  | 123 => 0x3F76F01A#32
  | 124 => 0x401327F1#32
  | 125 => 0x3F84B99F#32
  | 126 => 0x3F851759#32
  | 127 => 0xBF5160F7#32
  | _ => 0#32

noncomputable abbrev lit0t0_802 (i : Nat) : BitVec 32 := match i % 128 with
  | 0 => 0xBF7B26C9#32
  | 1 => 0xBF1BF1B8#32
  | 2 => 0x3F7010D4#32
  | 3 => 0xBF3F5BAC#32
  | 4 => 0xBEF6617A#32
  | 5 => 0x400B2814#32
  | 6 => 0x3ED7BC5D#32
  | 7 => 0xBD082BD2#32
  | 8 => 0xBF643A3A#32
  | 9 => 0x400D38CF#32
  | 10 => 0xBF17288D#32
  | 11 => 0xBFD34279#32
  | 12 => 0x3FBA9664#32
  | 13 => 0x3F82EE22#32
  | 14 => 0x3F4179AE#32
  | 15 => 0x3D5734DA#32
  | 16 => 0x3EF68480#32
  | 17 => 0x3EE6A679#32
  | 18 => 0x3EF62DA3#32
  | 19 => 0xBFA18917#32
  | 20 => 0x3FA02D66#32
  | 21 => 0x3D928CCB#32
  | 22 => 0x3ECA5316#32
  | 23 => 0xBE6FA839#32
  | 24 => 0xBF204060#32
  | 25 => 0x3EB92DC2#32
  | 26 => 0xBE39F6EB#32
  | 27 => 0x3F8D03F2#32
  | 28 => 0x3E5A878F#32
  | 29 => 0x3FC33CAB#32
  | 30 => 0x40B00A69#32
  | 31 => 0x3FAC86F5#32
  | 32 => 0xBFAB8EB6#32
  | 33 => 0xBDF273B1#32
  | 34 => 0xBD70227D#32
  | 35 => 0x3E982E95#32
  | 36 => 0x3F946394#32
  | 37 => 0x3ECF3D56#32
  | 38 => 0x3EC353D1#32
  | 39 => 0xBEB3F594#32
  | 40 => 0xBFC0A54F#32
  | 41 => 0xBCF18319#32
  | 42 => 0x3F35C1AD#32
  | 43 => 0xBFA3D659#32
  | 44 => 0x3E9C7609#32
  | 45 => 0x3F518862#32
  | 46 => 0xBD786F4A#32
  | 47 => 0x3F4473E7#32
  | 48 => 0x3E87444F#32
  | 49 => 0xBE81A3AC#32
  | 50 => 0x4020FD1F#32
  | 51 => 0xBF10D330#32
  | 52 => 0x3F804DBE#32
  | 53 => 0x3E895C59#32
  | 54 => 0x3EE89F1B#32
  | 55 => 0x3FC648F6#32
  | 56 => 0x3F44C4DC#32
  | 57 => 0xBF5E9F99#32
  | 58 => 0x3E83F421#32
  | 59 => 0x408BF956#32
  | 60 => 0xBE39F096#32
  | 61 => 0x3F374E4A#32
  | 62 => 0x3FCCD865#32
  | 63 => 0xBD3C1BF8#32
  | 64 => 0x3FFAF286#32
  | 65 => 0x3E57A35B#32
  | 66 => 0x3F58EDAA#32
  | 67 => 0xBF0765EE#32
  | 68 => 0x3FF70A28#32
  | 69 => 0x3ECFBC00#32
  | 70 => 0x3E78B832#32
  | 71 => 0x4059FBDE#32
  | 72 => 0xBF0F93D4#32
  | 73 => 0xBE1BA4F3#32
  | 74 => 0x4066BC45#32
  | 75 => 0x3FA13D3B#32
  | 76 => 0xBF6CD93C#32
  | 77 => 0xBFC263F5#32
  | 78 => 0x3F49F597#32
  | 79 => 0x3F81F3E7#32
  | 80 => 0x3EE95606#32
  | 81 => 0x3FB49657#32
  | 82 => 0xBFB10A99#32
  | 83 => 0x3F9F3516#32
  | 84 => 0x40191270#32
  | 85 => 0x3F9AF0E0#32
  | 86 => 0x3E352B18#32
  | 87 => 0x3DFDC0DB#32
  | 88 => 0xBEC390A4#32
  | 89 => 0xBF20B89C#32
  | 90 => 0x3FB41525#32
  | 91 => 0x3F22803D#32
  | 92 => 0x3FD782FE#32
  | 93 => 0x4013190E#32
  | 94 => 0x3EE9082A#32
  | 95 => 0x3FED0AD5#32
  | 96 => 0x3ED3CBF9#32
  | 97 => 0x3FC643FB#32
  | 98 => 0xBF84DBE1#32
  | 99 => 0xBF22E811#32
  | 100 => 0xBF7ECA66#32
  | 101 => 0x3F99684F#32
  | 102 => 0x3EC3CABB#32
  | 103 => 0x4010233F#32
  | 104 => 0xBE6A488E#32
  | 105 => 0x3F70F056#32
  | 106 => 0x3FFF8960#32
  | 107 => 0x3E66708A#32
  | 108 => 0xBE49D167#32
  | 109 => 0x3F468DC7#32
  | 110 => 0x3EE34E44#32
  | 111 => 0x3F0617F4#32
  | 112 => 0x3F93F693#32
  | 113 => 0xBE51F569#32
  | 114 => 0xBF0906BD#32
  | 115 => 0x3EB30702#32
  | 116 => 0xBF0072FE#32
  | 117 => 0x3F4B8F53#32
  | 118 => 0x3F98F30A#32
  | 119 => 0xBF030378#32
  | 120 => 0xBED3881C#32
  | 121 => 0xBF944B7B#32
  | 122 => 0x3FCEC82D#32
  | 123 => 0xBF1F71A2#32
  | 124 => 0xBF8231FA#32
  | 125 => 0x401A3252#32
  | 126 => 0x3EC9D4B9#32
  | 127 => 0xBF4BB859#32
  | _ => 0#32

noncomputable abbrev lit0t0_803 (i : Nat) : BitVec 32 := match i % 128 with
  | 0 => 0x3EB0136B#32
  | 1 => 0x3DAE3894#32
  | 2 => 0x402699F9#32
  | 3 => 0xBFB751E7#32
  | 4 => 0x3F4E4DC2#32
  | 5 => 0x3F5233CE#32
  | 6 => 0x3FCE2D9D#32
  | 7 => 0xBD40A7F7#32
  | 8 => 0xBECEB1A6#32
  | 9 => 0x3FB9C847#32
  | 10 => 0xBDDD4EA4#32
  | 11 => 0xBFAFE37D#32
  | 12 => 0x3F19DB8C#32
  | 13 => 0xBCB9D648#32
  | 14 => 0x3F0D9D0D#32
  | 15 => 0x3F3F489B#32
  | 16 => 0x3F9F8B03#32
  | 17 => 0x3ECA1F47#32
  | 18 => 0xBECF7468#32
  | 19 => 0xBEF03798#32
  | 20 => 0x400CA83E#32
  | 21 => 0x3EF72B12#32
  | 22 => 0x40062191#32
  | 23 => 0x3DF6D476#32
  | 24 => 0x3FCAB595#32
  | 25 => 0xBF0ED201#32
  | 26 => 0x3DAB3092#32
  | 27 => 0x3FAEC5F9#32
  | 28 => 0xBEBEB2AA#32
  | 29 => 0x3F7AEBCB#32
  | 30 => 0xBF1BFBCC#32
  | 31 => 0x3E8FC18E#32
  | 32 => 0xBF1855F4#32
  | 33 => 0x3E77C46C#32
  | 34 => 0xBEAEBF93#32
  | 35 => 0xBDA27C08#32
  | 36 => 0x3FAB9D2B#32
  | 37 => 0xBF9801F9#32
  | 38 => 0xBF31FF25#32
  | 39 => 0x3F76D6A2#32
  | 40 => 0x3F48BC24#32
  | 41 => 0x402505AF#32
  | 42 => 0xBFC50DEB#32
  | 43 => 0x3F9B0BEA#32
  | 44 => 0x409CE535#32
  | 45 => 0x409107A6#32
  | 46 => 0xBCC057E4#32
  | 47 => 0x4032EF7E#32
  | 48 => 0x3EB9A938#32
  | 49 => 0x403480DB#32
  | 50 => 0x3FA5001C#32
  | 51 => 0x3FADAC7F#32
  | 52 => 0xBDCB8A26#32
  | 53 => 0x409C0BBA#32
  | 54 => 0x406329F6#32
  | 55 => 0xBF7B7E26#32
  | 56 => 0x4031333D#32
  | 57 => 0x3FB357C0#32
  | 58 => 0xBEA01AAC#32
  | 59 => 0x400D0AD5#32
  | 60 => 0x401BE296#32
  | 61 => 0xBF134906#32
  | 62 => 0xBE7918F9#32
  | 63 => 0x400A511D#32
  | 64 => 0xBF85854E#32
  | 65 => 0x3F87A988#32
  | 66 => 0x403B2812#32
  | 67 => 0x3FB9594C#32
  | 68 => 0xBEDA115B#32
  | 69 => 0xBC9927B3#32
  | 70 => 0xBD6A3EA2#32
  | 71 => 0x3F3C8829#32
  | 72 => 0x3E8EF752#32
  | 73 => 0xBF3E02C8#32
  | 74 => 0x3F5AB478#32
  | 75 => 0x3D4A4FB2#32
  | 76 => 0x3ED04E65#32
  | 77 => 0x3F681CA5#32
  | 78 => 0x3EE430BE#32
  | 79 => 0x3EB4A779#32
  | 80 => 0x3F94EC89#32
  | 81 => 0x400DE8D5#32
  | 82 => 0x40275CDC#32
  | 83 => 0x3F1C9BB1#32
  | 84 => 0x3FEDF2E9#32
  | 85 => 0x3F2997C5#32
  | 86 => 0x3FAE47EB#32
  | 87 => 0x3FF56609#32
  | 88 => 0xBF535197#32
  | 89 => 0x3F83E013#32
  | 90 => 0xBB6AD22D#32
  | 91 => 0xBF9F2634#32
  | 92 => 0xBF23304C#32
  | 93 => 0x3FFB02EA#32
  | 94 => 0xBD4D60B1#32
  | 95 => 0xBFA6D7E6#32
  | 96 => 0x402C298B#32
  | 97 => 0xBEAD8923#32
  | 98 => 0x3FADF816#32
  | 99 => 0x3FB4808F#32
  | 100 => 0x3F6CA0B2#32
  | 101 => 0xBF1D8B9B#32
  | 102 => 0x3F9692E7#32
  | 103 => 0x402EBBE6#32
  | 104 => 0x3F3A5F35#32
  | 105 => 0x3F069E98#32
  | 106 => 0x40936C77#32
  | 107 => 0xBFCBEC28#32
  | 108 => 0x3FB93017#32
  | 109 => 0x3F40630F#32
  | 110 => 0x3EF730B4#32
  | 111 => 0x3DDB9A2B#32
  | 112 => 0x3FD2338E#32
  | 113 => 0xBDBB9E1B#32
  | 114 => 0xBF95E360#32
  | 115 => 0x3F8C4217#32
  | 116 => 0x3F6D0326#32
  | 117 => 0xBFA95E4D#32
  | 118 => 0x4064FFDA#32
  | 119 => 0x3F969D19#32
  | 120 => 0x3FB505E8#32
  | 121 => 0x40A45772#32
  | 122 => 0x40909007#32
  | 123 => 0xBF521922#32
  | 124 => 0x3F0CB4D0#32
  | 125 => 0xBF18260E#32
  | 126 => 0x40378307#32
  | 127 => 0x3FED8C31#32
  | _ => 0#32

noncomputable abbrev lit0t0_804 (i : Nat) : BitVec 32 := match i % 128 with
  | 0 => 0x3F4281EB#32
  | 1 => 0x40372D32#32
  | 2 => 0x3F6A5D9F#32
  | 3 => 0x3F896FA6#32
  | 4 => 0xBD3773C9#32
  | 5 => 0x3FA0D580#32
  | 6 => 0x4077E500#32
  | 7 => 0x3F6E9A58#32
  | 8 => 0x3F84E74C#32
  | 9 => 0x3ED998EE#32
  | 10 => 0xBF424D2F#32
  | 11 => 0x3F9BC5B7#32
  | 12 => 0x3F149832#32
  | 13 => 0xBE69127A#32
  | 14 => 0xBF2BB250#32
  | 15 => 0x3F127EAD#32
  | 16 => 0x3FD2E7A6#32
  | 17 => 0x3FADD26E#32
  | 18 => 0x3F715D17#32
  | 19 => 0x3E93DC06#32
  | 20 => 0x3E75670E#32
  | 21 => 0x3E960EAB#32
  | 22 => 0xBEEFA4BA#32
  | 23 => 0xBF8DFDDE#32
  | 24 => 0x3F1CB42B#32
  | 25 => 0x4081DD1A#32
  | 26 => 0x40382030#32
  | 27 => 0x3FC7757C#32
  | 28 => 0x3E046831#32
  | 29 => 0xBF70B990#32
  | 30 => 0xBF170738#32
  | 31 => 0x3E7057FE#32
  | 32 => 0xBFA44584#32
  | 33 => 0xBEECADA1#32
  | 34 => 0x3EF351BA#32
  | 35 => 0x3E5CECD1#32
  | 36 => 0x3E207182#32
  | 37 => 0xBF9E80CA#32
  | 38 => 0x4071C2B8#32
  | 39 => 0xBFACC4BD#32
  | 40 => 0xBF93C912#32
  | 41 => 0x3FC94ABA#32
  | 42 => 0xBE98F882#32
  | 43 => 0x3EB53547#32
  | 44 => 0x3F9710BB#32
  | 45 => 0xBF55F2E5#32
  | 46 => 0x40081A9D#32
  | 47 => 0xBF552D46#32
  | 48 => 0xBE11AE7B#32
  | 49 => 0x3F87B18E#32
  | 50 => 0xBE8285DC#32
  | 51 => 0x3FFE5B99#32
  | 52 => 0x4083FA4F#32
  | 53 => 0xC0008ADC#32
  | 54 => 0xBF86C67C#32
  | 55 => 0x3FF6E133#32
  | 56 => 0x40027AD0#32
  | 57 => 0x3F399759#32
  | 58 => 0x3FE927E9#32
  | 59 => 0xBFA8B945#32
  | 60 => 0x3F718B06#32
  | 61 => 0x3FA8AB67#32
  | 62 => 0x4008033B#32
  | 63 => 0xBEF960C8#32
  | 64 => 0xBC89118C#32
  | 65 => 0x3FA0AEB2#32
  | 66 => 0x3F0A1B8C#32
  | 67 => 0x3DB49FE6#32
  | 68 => 0xBF26CF1A#32
  | 69 => 0xBF5EE0B4#32
  | 70 => 0xBD8DF10F#32
  | 71 => 0xBDEF65CE#32
  | 72 => 0xBE81E4C8#32
  | 73 => 0xBD82CD69#32
  | 74 => 0x3F2BDEAD#32
  | 75 => 0x3F3A6A25#32
  | 76 => 0x3FD0CDB8#32
  | 77 => 0x406A303B#32
  | 78 => 0x401F2FE9#32
  | 79 => 0x3FBD0D29#32
  | 80 => 0x3E9F2F1E#32
  | 81 => 0x3FACA747#32
  | 82 => 0x3F8BB20C#32
  | 83 => 0xBF84E4BB#32
  | 84 => 0x3DDA0B1A#32
  | 85 => 0xBF883D5C#32
  | 86 => 0x3F419E22#32
  | 87 => 0x3E00E07B#32
  | 88 => 0xBE90EF8A#32
  | 89 => 0xBE7A4613#32
  | 90 => 0x3F927668#32
  | 91 => 0xBF0F3518#32
  | 92 => 0x3F2C053E#32
  | 93 => 0xBFA6CCC7#32
  | 94 => 0x400B1EE6#32
  | 95 => 0x3FAC6F47#32
  | 96 => 0xBF13EEBA#32
  | 97 => 0x3F4DC620#32
  | 98 => 0x3C4032F9#32
  | 99 => 0xBEC87959#32
  | 100 => 0xBFDB8FC2#32
  | 101 => 0x4018657E#32
  | 102 => 0xBDCE0A36#32
  | 103 => 0xBF4677CB#32
  | 104 => 0xBEB625EE#32
  | 105 => 0xBDC8E64A#32
  | 106 => 0xBE8ECA81#32
  | 107 => 0xBF164AA3#32
  | 108 => 0x3F973425#32
  | 109 => 0x3F26D89A#32
  | 110 => 0xBDB1BD4A#32
  | 111 => 0xBFD40EFB#32
  | 112 => 0xBE98C1E6#32
  | 113 => 0xBED813EC#32
  | 114 => 0xBEFDBFBD#32
  | 115 => 0x3FD83398#32
  | 116 => 0xBE05CE72#32
  | 117 => 0x3F4D2EC6#32
  | 118 => 0x3F49D852#32
  | 119 => 0x3FFD4C3B#32
  | 120 => 0xBE166C9C#32
  | 121 => 0x3F8FB89C#32
  | 122 => 0xBD7F9EAE#32
  | 123 => 0xBEC90568#32
  | 124 => 0x3FAD42A4#32
  | 125 => 0x3ECE4006#32
  | 126 => 0xBE15BDC6#32
  | 127 => 0x3FDFD6D0#32
  | _ => 0#32

noncomputable abbrev lit0t0_805 (i : Nat) : BitVec 32 := match i % 128 with
  | 0 => 0xBF536528#32
  | 1 => 0x3F44AF22#32
  | 2 => 0xBF6AB1C9#32
  | 3 => 0x3E0095EC#32
  | 4 => 0xBF862291#32
  | 5 => 0xBF4E13E1#32
  | 6 => 0x3EAE3136#32
  | 7 => 0x3F371145#32
  | 8 => 0xBF8EF458#32
  | 9 => 0xBE606463#32
  | 10 => 0x3DB50FF7#32
  | 11 => 0xBFC8B5A6#32
  | 12 => 0x3FA7E154#32
  | 13 => 0xBF4832DD#32
  | 14 => 0xBF51B60B#32
  | 15 => 0x3F5F0DD5#32
  | 16 => 0xBF2FDC7A#32
  | 17 => 0x3EDB09D6#32
  | 18 => 0x3E7FF736#32
  | 19 => 0xBF340297#32
  | 20 => 0x3F60191C#32
  | 21 => 0x3F7B2DE6#32
  | 22 => 0x3F8FEED5#32
  | 23 => 0x3F893B71#32
  | 24 => 0xBE41FF6F#32
  | 25 => 0x400115EA#32
  | 26 => 0xBDB37FDA#32
  | 27 => 0x3F2AFB3E#32
  | 28 => 0x3FC9BFEC#32
  | 29 => 0x3FC87DBA#32
  | 30 => 0x4007E815#32
  | 31 => 0x3F11A206#32
  | 32 => 0x3E2BDC6D#32
  | 33 => 0x3F8C1938#32
  | 34 => 0x4016F40A#32
  | 35 => 0x3F1099CB#32
  | 36 => 0x3F86C576#32
  | 37 => 0x3E4589BB#32
  | 38 => 0x3F857C6C#32
  | 39 => 0xBE890C2F#32
  | 40 => 0x3FEEA3B0#32
  | 41 => 0xBE93D9F0#32
  | 42 => 0x3E0AF512#32
  | 43 => 0xBF35104F#32
  | 44 => 0x3FAA756D#32
  | 45 => 0x3ED02D6C#32
  | 46 => 0xBFA7A0DB#32
  | 47 => 0x3F8479B9#32
  | 48 => 0x3E53C16E#32
  | 49 => 0x3EAAEDBF#32
  | 50 => 0x3FFEEBD6#32
  | 51 => 0xBE8D08C3#32
  | 52 => 0xBF9BF69A#32
  | 53 => 0xBD94EAD4#32
  | 54 => 0x3E1EF478#32
  | 55 => 0x407BD4D2#32
  | 56 => 0xBF608773#32
  | 57 => 0xBFB39907#32
  | 58 => 0x3FC34C1D#32
  | 59 => 0xBFA2E39A#32
  | 60 => 0x40A39AEE#32
  | 61 => 0x3FC0C231#32
  | 62 => 0xBEC377F1#32
  | 63 => 0x401D9DB8#32
  | 64 => 0xBFB88888#32
  | 65 => 0x3ECDBB5F#32
  | 66 => 0xBF599E02#32
  | 67 => 0x3F095BF6#32
  | 68 => 0x3F49643C#32
  | 69 => 0x3F477029#32
  | 70 => 0x4046A8F2#32
  | 71 => 0x401276D7#32
  | 72 => 0x3F972DBF#32
  | 73 => 0x3FAE17ED#32
  | 74 => 0xBF1539E8#32
  | 75 => 0x3F9B23CA#32
  | 76 => 0x3F996D9D#32
  | 77 => 0x3E64E273#32
  | 78 => 0xBFACFAF4#32
  | 79 => 0x3F91D851#32
  | 80 => 0x3E472AE0#32
  | 81 => 0x3F993FB9#32
  | 82 => 0xBF842102#32
  | 83 => 0xBF78FE30#32
  | 84 => 0x3FC7676C#32
  | 85 => 0xBED8F6A3#32
  | 86 => 0xBE9F1564#32
  | 87 => 0x3FC13227#32
  | 88 => 0xBE72DC1E#32
  | 89 => 0xBF9664C7#32
  | 90 => 0x3F5D1FAA#32
  | 91 => 0x3F9254E9#32
  | 92 => 0xBDD3C028#32
  | 93 => 0x3F0D1E39#32
  | 94 => 0x3FCFB691#32
  | 95 => 0xBE83CB70#32
  | 96 => 0x3F0582E8#32
  | 97 => 0x3F26802A#32
  | 98 => 0x3FB19B41#32
  | 99 => 0xBDA36874#32
  | 100 => 0xBFEE44B8#32
  | 101 => 0x40180264#32
  | 102 => 0x3E47CD9F#32
  | 103 => 0x3FAF0840#32
  | 104 => 0x3DBE19C1#32
  | 105 => 0x3F004076#32
  | 106 => 0x4000A478#32
  | 107 => 0x3EE4AE5A#32
  | 108 => 0xBF98103F#32
  | 109 => 0x3F4AD1AB#32
  | 110 => 0xBF879D34#32
  | 111 => 0x3EC10352#32
  | 112 => 0xBE8506A2#32
  | 113 => 0x3EC53817#32
  | 114 => 0x3E86F17B#32
  | 115 => 0x3FABC50B#32
  | 116 => 0x3F0B7D1C#32
  | 117 => 0x40955C0D#32
  | 118 => 0xBD164E4A#32
  | 119 => 0xBDEC4296#32
  | 120 => 0xBEF5F908#32
  | 121 => 0x3EC7E062#32
  | 122 => 0xBF144202#32
  | 123 => 0x3FFBCFFA#32
  | 124 => 0xBF6F5148#32
  | 125 => 0x3FAD625F#32
  | 126 => 0x3F9556BB#32
  | 127 => 0x3E9CE590#32
  | _ => 0#32

noncomputable abbrev lit0t0_806 (i : Nat) : BitVec 32 := match i % 128 with
  | 0 => 0xBED90E64#32
  | 1 => 0x3F41619B#32
  | 2 => 0x3F1EE8F6#32
  | 3 => 0x3E763F52#32
  | 4 => 0x3D87715F#32
  | 5 => 0x3DAA7C8A#32
  | 6 => 0x4022C787#32
  | 7 => 0x3F6D4944#32
  | 8 => 0xBF635652#32
  | 9 => 0x3EE6E4EF#32
  | 10 => 0xBECA490A#32
  | 11 => 0xBDE20C7F#32
  | 12 => 0xBDB1E2EF#32
  | 13 => 0xBF80E948#32
  | 14 => 0xBDE338E8#32
  | 15 => 0x3FB13D7E#32
  | 16 => 0xBF377781#32
  | 17 => 0x3F893A17#32
  | 18 => 0x3FB0C64D#32
  | 19 => 0xBE6091EA#32
  | 20 => 0x3D7DDD62#32
  | 21 => 0x3EAD36F4#32
  | 22 => 0xBF24B350#32
  | 23 => 0x3F119A7D#32
  | 24 => 0xBED0D533#32
  | 25 => 0x3ECE0C95#32
  | 26 => 0x3F80742B#32
  | 27 => 0x3F84ED22#32
  | 28 => 0xBF7A7B1B#32
  | 29 => 0xBF073B9A#32
  | 30 => 0x3F03B173#32
  | 31 => 0xBF00EED6#32
  | 32 => 0x3F2839DE#32
  | 33 => 0x3D397B2E#32
  | 34 => 0x402F7B4D#32
  | 35 => 0xBFBC5C8E#32
  | 36 => 0x40669A7C#32
  | 37 => 0x3E3080BC#32
  | 38 => 0xBF2A7E11#32
  | 39 => 0x3F3D4F9D#32
  | 40 => 0x4004C0DB#32
  | 41 => 0xBE92A2F9#32
  | 42 => 0x3DA057AB#32
  | 43 => 0x3ED41979#32
  | 44 => 0xBF2D3B9F#32
  | 45 => 0x3F920D6F#32
  | 46 => 0x4001A3A5#32
  | 47 => 0xBE0F67FB#32
  | 48 => 0xBF60AA7D#32
  | 49 => 0x3E36F9A9#32
  | 50 => 0xBDBA825D#32
  | 51 => 0x3FACB397#32
  | 52 => 0xBD96F83A#32
  | 53 => 0x3F5CB916#32
  | 54 => 0xBE5B5E81#32
  | 55 => 0x3F563528#32
  | 56 => 0x40524816#32
  | 57 => 0xBDD575AD#32
  | 58 => 0x3E2B540F#32
  | 59 => 0x3FCE2DC2#32
  | 60 => 0xBEF534F6#32
  | 61 => 0x3F327D4F#32
  | 62 => 0xBFAB1504#32
  | 63 => 0xBEEFCD2C#32
  | 64 => 0xBF4C9ED5#32
  | 65 => 0xBE4C0F26#32
  | 66 => 0x401C60F6#32
  | 67 => 0x3E6E382C#32
  | 68 => 0xBE6B2608#32
  | 69 => 0xBB6F77DC#32
  | 70 => 0xBE4C33C8#32
  | 71 => 0xBF42568A#32
  | 72 => 0x3EE6414F#32
  | 73 => 0x3FBCFF4C#32
  | 74 => 0xBF057FD8#32
  | 75 => 0xBE7E2F93#32
  | 76 => 0x3FBBC2C3#32
  | 77 => 0x3FD0710A#32
  | 78 => 0x3F49D308#32
  | 79 => 0x3F99346C#32
  | 80 => 0x3F292B76#32
  | 81 => 0x3EADC9C2#32
  | 82 => 0x3F85B737#32
  | 83 => 0xBFCBA42E#32
  | 84 => 0xBD430748#32
  | 85 => 0xBE8748D9#32
  | 86 => 0x403632E4#32
  | 87 => 0xBF9EF76C#32
  | 88 => 0xBD7658D0#32
  | 89 => 0xBF6F5115#32
  | 90 => 0x3F66994B#32
  | 91 => 0xBE40BE26#32
  | 92 => 0xBEFCC8C0#32
  | 93 => 0xBFB3C2A1#32
  | 94 => 0x4007FD68#32
  | 95 => 0x3F9678E5#32
  | 96 => 0x3FD7D545#32
  | 97 => 0xBEAA38C0#32
  | 98 => 0x40098CDA#32
  | 99 => 0x3F1DD147#32
  | 100 => 0x3F211719#32
  | 101 => 0x3FD20D4B#32
  | 102 => 0x3FCF6A47#32
  | 103 => 0xBEE4A856#32
  | 104 => 0xBF1CCBDC#32
  | 105 => 0xBF838146#32
  | 106 => 0x3B524644#32
  | 107 => 0x400803B0#32
  | 108 => 0x3F1658E0#32
  | 109 => 0x3F89FDCA#32
  | 110 => 0x3F5180BA#32
  | 111 => 0x3F94BC79#32
  | 112 => 0xBF2E46E9#32
  | 113 => 0x3EAEE625#32
  | 114 => 0xBF2006D8#32
  | 115 => 0x3FCE09F3#32
  | 116 => 0xBF8AF907#32
  | 117 => 0x3F418D43#32
  | 118 => 0x400B67BA#32
  | 119 => 0x3E4C0AF3#32
  | 120 => 0xBF3AC79B#32
  | 121 => 0xBF25331A#32
  | 122 => 0x3F051750#32
  | 123 => 0x4019358B#32
  | 124 => 0x3DF798AF#32
  | 125 => 0x4097B135#32
  | 126 => 0xB8B0FE16#32
  | 127 => 0x3EC154D7#32
  | _ => 0#32

noncomputable abbrev lit0t0_807 (i : Nat) : BitVec 32 := match i % 128 with
  | 0 => 0xBF4E67F4#32
  | 1 => 0x3EBF4AE0#32
  | 2 => 0xBF1EDC20#32
  | 3 => 0x3FA9C34A#32
  | 4 => 0x3FA1BA56#32
  | 5 => 0x3FB5FA18#32
  | 6 => 0x3E76919C#32
  | 7 => 0xBF5BA204#32
  | 8 => 0x3F25F34A#32
  | 9 => 0x4033E1F5#32
  | 10 => 0xBF4A0AD2#32
  | 11 => 0xBFAE192C#32
  | 12 => 0x3E1324D7#32
  | 13 => 0x3F11943F#32
  | 14 => 0x3FDDCC70#32
  | 15 => 0xBD1255A7#32
  | 16 => 0x40A3CD5A#32
  | 17 => 0xBF377F4F#32
  | 18 => 0x3E8B63F0#32
  | 19 => 0x3F55E0A0#32
  | 20 => 0x3DA1BD57#32
  | 21 => 0x4064BC9A#32
  | 22 => 0x402F72BD#32
  | 23 => 0x3ECC31CD#32
  | 24 => 0x3F72A360#32
  | 25 => 0xBF86E4AD#32
  | 26 => 0x3F96F14A#32
  | 27 => 0xBF8886D6#32
  | 28 => 0x3FB731B5#32
  | 29 => 0x3FF97DE9#32
  | 30 => 0x3E3874CE#32
  | 31 => 0x40B7524B#32
  | 32 => 0x400E8FCC#32
  | 33 => 0x403BB3F1#32
  | 34 => 0xBD3297FD#32
  | 35 => 0xBF4F731C#32
  | 36 => 0x3FF2E899#32
  | 37 => 0xBF3174A0#32
  | 38 => 0xBDED5ACD#32
  | 39 => 0x3F27149D#32
  | 40 => 0x3E8E5388#32
  | 41 => 0x3F5D6D1F#32
  | 42 => 0x3E955C1A#32
  | 43 => 0xBE66D550#32
  | 44 => 0x3E92748D#32
  | 45 => 0x40396AA7#32
  | 46 => 0x3E12D0F3#32
  | 47 => 0x3D14ECA0#32
  | 48 => 0x3E147120#32
  | 49 => 0x3FFC7D9A#32
  | 50 => 0xBAB59FC6#32
  | 51 => 0x400ACDC5#32
  | 52 => 0xBEF2440B#32
  | 53 => 0x3F860524#32
  | 54 => 0x3E15300B#32
  | 55 => 0x3E4C4D52#32
  | 56 => 0x3E1F77C8#32
  | 57 => 0xBC59334D#32
  | 58 => 0x40445042#32
  | 59 => 0xBBF8EE55#32
  | 60 => 0x3F8EB830#32
  | 61 => 0x3E5B4D80#32
  | 62 => 0x3FE9D2B6#32
  | 63 => 0xBFA9DC25#32
  | 64 => 0x3E676EF4#32
  | 65 => 0xBFBC9B75#32
  | 66 => 0x3F9CEE2E#32
  | 67 => 0x3F735312#32
  | 68 => 0xBF950BE7#32
  | 69 => 0x400319E3#32
  | 70 => 0xBFC76B2C#32
  | 71 => 0x408E6D9A#32
  | 72 => 0x3F07DFE0#32
  | 73 => 0x3F51482B#32
  | 74 => 0xBF4A95ED#32
  | 75 => 0x3EF69BDF#32
  | 76 => 0xBE8DB9E2#32
  | 77 => 0xBF5BCCE8#32
  | 78 => 0x3FA7BCF4#32
  | 79 => 0x3FAD39EE#32
  | 80 => 0x3FB1D0CD#32
  | 81 => 0x3E3B99EE#32
  | 82 => 0x3E8BE202#32
  | 83 => 0xBF1CD16E#32
  | 84 => 0xBFA6324B#32
  | 85 => 0xBF761D3C#32
  | 86 => 0xBE900C47#32
  | 87 => 0x3F76C75E#32
  | 88 => 0xBE5EB12A#32
  | 89 => 0x3FF630FE#32
  | 90 => 0x3FE77120#32
  | 91 => 0x3F4BB380#32
  | 92 => 0xBEC6DC0E#32
  | 93 => 0xBFB2A98F#32
  | 94 => 0x3ED999D9#32
  | 95 => 0x3F77FB4E#32
  | 96 => 0x3F100716#32
  | 97 => 0x3EEFBFD7#32
  | 98 => 0x3F79A02C#32
  | 99 => 0x3F070EB4#32
  | 100 => 0x404FF607#32
  | 101 => 0xBF013EF9#32
  | 102 => 0x406884E1#32
  | 103 => 0x40162AD5#32
  | 104 => 0x3F3BA6F8#32
  | 105 => 0xBBF91508#32
  | 106 => 0xBF406BFC#32
  | 107 => 0x40034037#32
  | 108 => 0x4002E27A#32
  | 109 => 0xBECD1F3D#32
  | 110 => 0xBE946D59#32
  | 111 => 0xBF9B0B54#32
  | 112 => 0x40658853#32
  | 113 => 0x3E7F349F#32
  | 114 => 0x3FF4459A#32
  | 115 => 0x3F921473#32
  | 116 => 0x3FFC0934#32
  | 117 => 0x3E9DAB17#32
  | 118 => 0xBD13BB17#32
  | 119 => 0x401A6162#32
  | 120 => 0xBE051004#32
  | 121 => 0x3F42D665#32
  | 122 => 0x4014FFB2#32
  | 123 => 0x3EC1B152#32
  | 124 => 0x3E21CE90#32
  | 125 => 0x3FD0D8F0#32
  | 126 => 0xBEB57B96#32
  | 127 => 0x3F1C5499#32
  | _ => 0#32

noncomputable abbrev lit0t0_808 (i : Nat) : BitVec 32 := match i % 128 with
  | 0 => 0x3F26064C#32
  | 1 => 0xBF225D33#32
  | 2 => 0x3EA61BD4#32
  | 3 => 0x3C324460#32
  | 4 => 0x3F8854E9#32
  | 5 => 0xBF39E3B5#32
  | 6 => 0x40773D1D#32
  | 7 => 0x3E8887E2#32
  | 8 => 0xBF32421D#32
  | 9 => 0xBEF5DEC1#32
  | 10 => 0xBE51E4A1#32
  | 11 => 0x3F9DD7D0#32
  | 12 => 0x3EA05D97#32
  | 13 => 0xBEF7A5E1#32
  | 14 => 0x3EC23CA9#32
  | 15 => 0x3E572BC4#32
  | 16 => 0xBED8F49C#32
  | 17 => 0x3EEAA757#32
  | 18 => 0xBF3BC4A6#32
  | 19 => 0x3FBFA92F#32
  | 20 => 0x3ED3DE0E#32
  | 21 => 0xBD1FD4B4#32
  | 22 => 0x3F4D82D5#32
  | 23 => 0xBF4CB864#32
  | 24 => 0x3F458111#32
  | 25 => 0x3FA0B9B5#32
  | 26 => 0x3FCCFE11#32
  | 27 => 0xBC01FA2B#32
  | 28 => 0x3E9ED530#32
  | 29 => 0xBF9FBABE#32
  | 30 => 0x3F7BE59C#32
  | 31 => 0xBEEFC8C4#32
  | 32 => 0x3FCD6CF1#32
  | 33 => 0xBE6D35CE#32
  | 34 => 0x3F9DA2F8#32
  | 35 => 0x40070267#32
  | 36 => 0x3E9EBB6B#32
  | 37 => 0x40C8CBD5#32
  | 38 => 0x3FB88E85#32
  | 39 => 0x4014929A#32
  | 40 => 0xBECB4799#32
  | 41 => 0x3C767671#32
  | 42 => 0xBDE01EC9#32
  | 43 => 0x3FCB3358#32
  | 44 => 0x3F478DE9#32
  | 45 => 0x3E01262B#32
  | 46 => 0x3F1B8C33#32
  | 47 => 0xBEE396CC#32
  | 48 => 0xBEC5C815#32
  | 49 => 0x3F85E6B4#32
  | 50 => 0x3F75953E#32
  | 51 => 0x3FA223B6#32
  | 52 => 0x3D195735#32
  | 53 => 0x3E2C671A#32
  | 54 => 0x3FC22AB0#32
  | 55 => 0xBE7C3616#32
  | 56 => 0x3F0AF6FC#32
  | 57 => 0xBE8487BC#32
  | 58 => 0xBE86E514#32
  | 59 => 0xBF0D18E3#32
  | 60 => 0xBF649C7E#32
  | 61 => 0x3FC07148#32
  | 62 => 0x3E5DE330#32
  | 63 => 0xBE8B5A00#32
  | 64 => 0xBE89F50D#32
  | 65 => 0x401B90D9#32
  | 66 => 0x3E50FB18#32
  | 67 => 0x3F047019#32
  | 68 => 0x4087EBCC#32
  | 69 => 0x3E905A7D#32
  | 70 => 0x3FAD1C0C#32
  | 71 => 0x3F132795#32
  | 72 => 0xBE73340A#32
  | 73 => 0xBF98C3AD#32
  | 74 => 0xBFC9948C#32
  | 75 => 0xBE0C3CC3#32
  | 76 => 0x3FDDA911#32
  | 77 => 0xBF5E6777#32
  | 78 => 0x3F694508#32
  | 79 => 0x3F783B86#32
  | 80 => 0xBF8D40B4#32
  | 81 => 0x40CE5018#32
  | 82 => 0x3FC9972C#32
  | 83 => 0xBFDB5AB7#32
  | 84 => 0x401E38E8#32
  | 85 => 0x3EFA6771#32
  | 86 => 0x3F4FC393#32
  | 87 => 0xBF1845BD#32
  | 88 => 0x3F8734A4#32
  | 89 => 0xBEB178A2#32
  | 90 => 0x3ED66D02#32
  | 91 => 0x3FD2F190#32
  | 92 => 0x3F63D010#32
  | 93 => 0xBEBC7340#32
  | 94 => 0xBE4E3D90#32
  | 95 => 0x3E9F4DA6#32
  | 96 => 0x3D0B7D52#32
  | 97 => 0xBF73185C#32
  | 98 => 0x3F5D14CB#32
  | 99 => 0xBE129F0B#32
  | 100 => 0xBD51E7CA#32
  | 101 => 0xBF774B30#32
  | 102 => 0x3E211853#32
  | 103 => 0xBFC57E92#32
  | 104 => 0xBF737EE2#32
  | 105 => 0x3FFBA2AC#32
  | 106 => 0x3FEA97A4#32
  | 107 => 0x3D4D1D86#32
  | 108 => 0xBE75EAC1#32
  | 109 => 0xBF42DA37#32
  | 110 => 0x3F782928#32
  | 111 => 0xBF5115A6#32
  | 112 => 0x409C28B1#32
  | 113 => 0x4007746C#32
  | 114 => 0xBECF88CF#32
  | 115 => 0x3F31FF4B#32
  | 116 => 0x3E5E748A#32
  | 117 => 0x3FD0C138#32
  | 118 => 0xBF096FD0#32
  | 119 => 0xBE6B21A8#32
  | 120 => 0xBEA49581#32
  | 121 => 0xBF9D3CE7#32
  | 122 => 0xBF7F08C0#32
  | 123 => 0x3FC3E216#32
  | 124 => 0x4008A715#32
  | 125 => 0xBE41E38F#32
  | 126 => 0x3FE05532#32
  | 127 => 0x3F516006#32
  | _ => 0#32

noncomputable abbrev lit0t0_809 (i : Nat) : BitVec 32 := match i % 128 with
  | 0 => 0x3EBC283A#32
  | 1 => 0x3EDAAE38#32
  | 2 => 0x3F8B800B#32
  | 3 => 0x40273932#32
  | 4 => 0xBE23BB7C#32
  | 5 => 0x3DA684FB#32
  | 6 => 0x3F8FC8BD#32
  | 7 => 0x3F01032B#32
  | 8 => 0x3B935DB4#32
  | 9 => 0xBF8734C0#32
  | 10 => 0x3F77C65F#32
  | 11 => 0x3F9225E0#32
  | 12 => 0xBF25F427#32
  | 13 => 0xBEAC3DE7#32
  | 14 => 0x3EA4508E#32
  | 15 => 0x4082F30C#32
  | 16 => 0x3FB1EE11#32
  | 17 => 0x40359389#32
  | 18 => 0x3EC11624#32
  | 19 => 0xBEA07B8E#32
  | 20 => 0xBEE3A5E7#32
  | 21 => 0x3F0E195E#32
  | 22 => 0x3F571E89#32
  | 23 => 0x4001D964#32
  | 24 => 0x3FE3EDF8#32
  | 25 => 0xBECEF18F#32
  | 26 => 0xBDD596D7#32
  | 27 => 0xBF3FE20C#32
  | 28 => 0x4010D278#32
  | 29 => 0x4073AD42#32
  | 30 => 0x3E462B61#32
  | 31 => 0x3F2266C6#32
  | 32 => 0xBE9CDB6D#32
  | 33 => 0x40937758#32
  | 34 => 0x40952CC4#32
  | 35 => 0x3FA4C189#32
  | 36 => 0x3EDF86A1#32
  | 37 => 0x3FCC6226#32
  | 38 => 0xBE8501CA#32
  | 39 => 0x3E4764CF#32
  | 40 => 0x3FA1907F#32
  | 41 => 0xBFBEE6F8#32
  | 42 => 0x3F9E05CE#32
  | 43 => 0x3F6E5FF2#32
  | 44 => 0x3DF4B4F0#32
  | 45 => 0xBF622D39#32
  | 46 => 0x3FC8C4A6#32
  | 47 => 0xBE92CF73#32
  | 48 => 0xBF800E06#32
  | 49 => 0xBE591C85#32
  | 50 => 0x3CE0F506#32
  | 51 => 0xBDCF056F#32
  | 52 => 0x3FB7C47D#32
  | 53 => 0xBC18E5CB#32
  | 54 => 0x3E81DFA0#32
  | 55 => 0xBF9E5F8F#32
  | 56 => 0x4013E4A1#32
  | 57 => 0xBF8173DF#32
  | 58 => 0x3FC0EA44#32
  | 59 => 0x3F50D05E#32
  | 60 => 0x3FC05FC6#32
  | 61 => 0xBF6495CD#32
  | 62 => 0x3ECA3507#32
  | 63 => 0xBE1A6B50#32
  | 64 => 0x3F986CB6#32
  | 65 => 0xBEA4937A#32
  | 66 => 0x3EEBEC16#32
  | 67 => 0x3FECB1F2#32
  | 68 => 0xBF70E9F0#32
  | 69 => 0x3F191DAE#32
  | 70 => 0xBF780CB6#32
  | 71 => 0x3FC386C4#32
  | 72 => 0xBC2CCD64#32
  | 73 => 0xBEB4BA8D#32
  | 74 => 0xBFA67309#32
  | 75 => 0x40336E92#32
  | 76 => 0x3E011471#32
  | 77 => 0x3F78F7D5#32
  | 78 => 0x3FB17E15#32
  | 79 => 0x3F819705#32
  | 80 => 0xBF15745C#32
  | 81 => 0x3F7B07CC#32
  | 82 => 0x4011119B#32
  | 83 => 0xBD78EFA2#32
  | 84 => 0x3F1FF96C#32
  | 85 => 0x3F97EB3B#32
  | 86 => 0x3F4360EC#32
  | 87 => 0xBEC6ADCF#32
  | 88 => 0xBF01EBB8#32
  | 89 => 0x3F701495#32
  | 90 => 0xBF13349D#32
  | 91 => 0xBFA5C536#32
  | 92 => 0x406438C1#32
  | 93 => 0x3F2FBD24#32
  | 94 => 0xBE579FAF#32
  | 95 => 0x3FC1DF69#32
  | 96 => 0x3F870D7F#32
  | 97 => 0x403596AE#32
  | 98 => 0x3F06197A#32
  | 99 => 0xBF28C558#32
  | 100 => 0x3E132BE0#32
  | 101 => 0x401E6B50#32
  | 102 => 0x3FD1968C#32
  | 103 => 0xBF0306D2#32
  | 104 => 0xBF45520E#32
  | 105 => 0xBE8287F7#32
  | 106 => 0x3F132D4A#32
  | 107 => 0x3F6D04E1#32
  | 108 => 0x3F2D64C3#32
  | 109 => 0xBFA2306D#32
  | 110 => 0xBEA92ED8#32
  | 111 => 0xBE53986C#32
  | 112 => 0x3FC10617#32
  | 113 => 0xBC976B0B#32
  | 114 => 0x402DC508#32
  | 115 => 0x3FB7E703#32
  | 116 => 0x3F47C9CC#32
  | 117 => 0xBF51D2D0#32
  | 118 => 0x3ECF07B6#32
  | 119 => 0x3FA943F2#32
  | 120 => 0xBEE02F90#32
  | 121 => 0x4026786E#32
  | 122 => 0xBE8E2C3A#32
  | 123 => 0x40020E39#32
  | 124 => 0xBEF690E9#32
  | 125 => 0x3FE624B5#32
  | 126 => 0xBEEE85B1#32
  | 127 => 0xBEA0EFAD#32
  | _ => 0#32

noncomputable abbrev lit0t0_810 (i : Nat) : BitVec 32 := match i % 128 with
  | 0 => 0x3F8A0A65#32
  | 1 => 0x407A45F4#32
  | 2 => 0x3E50149D#32
  | 3 => 0x40628B63#32
  | 4 => 0x4073693A#32
  | 5 => 0x3E44D62F#32
  | 6 => 0xBEB14D84#32
  | 7 => 0x4023E803#32
  | 8 => 0x3FD9B61C#32
  | 9 => 0x3D186EF2#32
  | 10 => 0x3FC634E8#32
  | 11 => 0x3F1062AD#32
  | 12 => 0xBEE5C3B4#32
  | 13 => 0xBEE73BC0#32
  | 14 => 0x4006A636#32
  | 15 => 0xBF391736#32
  | 16 => 0xBDD6016D#32
  | 17 => 0x40313C74#32
  | 18 => 0x3FA4EC30#32
  | 19 => 0x3E1AC4E2#32
  | 20 => 0xBEA82646#32
  | 21 => 0x3F232435#32
  | 22 => 0x4083B2F3#32
  | 23 => 0x3E8374E5#32
  | 24 => 0x40234A69#32
  | 25 => 0xBFA5EBE4#32
  | 26 => 0xBEC91038#32
  | 27 => 0x3F4D780D#32
  | 28 => 0x40772DBC#32
  | 29 => 0x3FE14BB0#32
  | 30 => 0xBEA78B55#32
  | 31 => 0xBE38E9EA#32
  | 32 => 0xBD15B448#32
  | 33 => 0x3E812266#32
  | 34 => 0x3F9C0961#32
  | 35 => 0xBEF7662E#32
  | 36 => 0x402B60ED#32
  | 37 => 0xBF5EC0FF#32
  | 38 => 0x3FAE77F7#32
  | 39 => 0x3F832319#32
  | 40 => 0x3EFA28D6#32
  | 41 => 0x3F5C0730#32
  | 42 => 0xBF51BDCC#32
  | 43 => 0xBF0AA2EA#32
  | 44 => 0xBF342092#32
  | 45 => 0x3E43257B#32
  | 46 => 0xBF9A3426#32
  | 47 => 0x401019CC#32
  | 48 => 0xBF23B9EA#32
  | 49 => 0x3FBF8BFA#32
  | 50 => 0xBF15CF43#32
  | 51 => 0x3E6FCC94#32
  | 52 => 0xBE8647F9#32
  | 53 => 0xBDE9D360#32
  | 54 => 0xBF2FD125#32
  | 55 => 0x40035DDB#32
  | 56 => 0xBF59C6D1#32
  | 57 => 0x3E3B0B79#32
  | 58 => 0xBE8DF644#32
  | 59 => 0x3ED4E313#32
  | 60 => 0xBF59D2C8#32
  | 61 => 0x3F9C251E#32
  | 62 => 0x3D9BFB42#32
  | 63 => 0xBF0DC4CA#32
  | 64 => 0x3F93CA16#32
  | 65 => 0xBF2CE0EA#32
  | 66 => 0x4035420B#32
  | 67 => 0xBF1380D0#32
  | 68 => 0xBFA88990#32
  | 69 => 0xBF0778CE#32
  | 70 => 0xBE63ED34#32
  | 71 => 0x3F89419C#32
  | 72 => 0xBFD2CD39#32
  | 73 => 0x3F8A2BD7#32
  | 74 => 0x404BA1EC#32
  | 75 => 0x3B703892#32
  | 76 => 0xBDEE5A38#32
  | 77 => 0xBFB15553#32
  | 78 => 0x4002DBD0#32
  | 79 => 0x40011456#32
  | 80 => 0xBF6FBBD1#32
  | 81 => 0x3F7C8943#32
  | 82 => 0x4002CFCB#32
  | 83 => 0x408C71C2#32
  | 84 => 0xBF371527#32
  | 85 => 0x3E7179DB#32
  | 86 => 0x3F78BE94#32
  | 87 => 0xBF8CCBD4#32
  | 88 => 0x3E1424DC#32
  | 89 => 0x3F424EEC#32
  | 90 => 0x3FA8F11D#32
  | 91 => 0x3B9B5D24#32
  | 92 => 0x3E29A206#32
  | 93 => 0xBF8C4A9B#32
  | 94 => 0x3FBB431F#32
  | 95 => 0x3F6BD3BC#32
  | 96 => 0xBF574726#32
  | 97 => 0xBEAC34A2#32
  | 98 => 0xBB55C6A5#32
  | 99 => 0x3FEA4C9C#32
  | 100 => 0x3F9AE125#32
  | 101 => 0x3FC357D1#32
  | 102 => 0xBEAAF185#32
  | 103 => 0xBFCEFCD7#32
  | 104 => 0x3EC80B39#32
  | 105 => 0x3F473B8E#32
  | 106 => 0x3EB09EE2#32
  | 107 => 0x3FE1D758#32
  | 108 => 0x3DE50282#32
  | 109 => 0xBF22D356#32
  | 110 => 0xBEB9A92D#32
  | 111 => 0xBFA5914F#32
  | 112 => 0x3ED21BB8#32
  | 113 => 0x40233908#32
  | 114 => 0x3F80D9A5#32
  | 115 => 0x3B5F9183#32
  | 116 => 0x3D0B59A1#32
  | 117 => 0xBEA614CD#32
  | 118 => 0xBF124455#32
  | 119 => 0xBF1105F8#32
  | 120 => 0xBF1E04FD#32
  | 121 => 0x40D7EDE7#32
  | 122 => 0x3F31C34B#32
  | 123 => 0x3F91B8F1#32
  | 124 => 0x404B3FAD#32
  | 125 => 0xBF421901#32
  | 126 => 0xBEB91BD3#32
  | 127 => 0xBF2AAA70#32
  | _ => 0#32

noncomputable abbrev lit0t0_811 (i : Nat) : BitVec 32 := match i % 128 with
  | 0 => 0x3EBD42C3#32
  | 1 => 0x3FAEE421#32
  | 2 => 0xBF6EEA74#32
  | 3 => 0x40F40CE7#32
  | 4 => 0x3E642EEF#32
  | 5 => 0x3F1ABB51#32
  | 6 => 0x3F083E87#32
  | 7 => 0x3D0BF23F#32
  | 8 => 0x3E43C955#32
  | 9 => 0x3F349E10#32
  | 10 => 0x3ECC7645#32
  | 11 => 0xBD042DDA#32
  | 12 => 0xBEB6CF10#32
  | 13 => 0x4071D17D#32
  | 14 => 0x3FC70DCF#32
  | 15 => 0x3F0A33A6#32
  | 16 => 0xBEB9CD6C#32
  | 17 => 0xBCD83714#32
  | 18 => 0xBC98828F#32
  | 19 => 0xBEA03CB3#32
  | 20 => 0x40440656#32
  | 21 => 0x3F45F320#32
  | 22 => 0xBDCF1C4F#32
  | 23 => 0x3E757D1E#32
  | 24 => 0xBF50030A#32
  | 25 => 0x3FA9D9F0#32
  | 26 => 0xBEB7B7CD#32
  | 27 => 0xBF81C99E#32
  | 28 => 0xBEEDF766#32
  | 29 => 0x402432D0#32
  | 30 => 0xBD81483D#32
  | 31 => 0x3FB7433A#32
  | 32 => 0x3F55DF4A#32
  | 33 => 0xBF84A078#32
  | 34 => 0x3F2E4902#32
  | 35 => 0x3E2020A3#32
  | 36 => 0x3F829556#32
  | 37 => 0xBECD9AB9#32
  | 38 => 0xBC075C75#32
  | 39 => 0x3F47D06D#32
  | 40 => 0xBEB89C9F#32
  | 41 => 0x3F009D14#32
  | 42 => 0xBEB6E58F#32
  | 43 => 0xBD0753D9#32
  | 44 => 0x3EA68828#32
  | 45 => 0xBE32DEBB#32
  | 46 => 0x3E67FE91#32
  | 47 => 0xBD58AE16#32
  | 48 => 0xBD74B3B4#32
  | 49 => 0x3FA4A0AB#32
  | 50 => 0x3FBDCEA2#32
  | 51 => 0xBF67A8CC#32
  | 52 => 0x3FD40522#32
  | 53 => 0xBFB9015C#32
  | 54 => 0x3FD74171#32
  | 55 => 0xBEDD50A4#32
  | 56 => 0xBE8BF9CE#32
  | 57 => 0x3F80F0BE#32
  | 58 => 0x409664A5#32
  | 59 => 0x3FEE328E#32
  | 60 => 0x3EDF109F#32
  | 61 => 0x3F5C9714#32
  | 62 => 0x40678EC2#32
  | 63 => 0x3E24ACCA#32
  | 64 => 0x3FA148B7#32
  | 65 => 0x3E212EDB#32
  | 66 => 0xBEE8651A#32
  | 67 => 0xBE7A2F00#32
  | 68 => 0x3EDABEBD#32
  | 69 => 0x3F80532B#32
  | 70 => 0x3D7F9F76#32
  | 71 => 0x3E9836CE#32
  | 72 => 0x40129499#32
  | 73 => 0x3FF87DDE#32
  | 74 => 0xBF045FF5#32
  | 75 => 0x3F238DBF#32
  | 76 => 0x3F0A7E80#32
  | 77 => 0xBF1EC393#32
  | 78 => 0xBFA940A2#32
  | 79 => 0x3F7D1173#32
  | 80 => 0x4020B77E#32
  | 81 => 0xBF83C226#32
  | 82 => 0xBF3354F7#32
  | 83 => 0x3EC49739#32
  | 84 => 0xBFB15F10#32
  | 85 => 0x3F74CAF2#32
  | 86 => 0xBF925C59#32
  | 87 => 0xBF80197E#32
  | 88 => 0x3E9CAC01#32
  | 89 => 0xBE2804E3#32
  | 90 => 0x3F46BA20#32
  | 91 => 0xBEA65947#32
  | 92 => 0x3E81938E#32
  | 93 => 0x3FDF327E#32
  | 94 => 0xBF6C967F#32
  | 95 => 0x3EFC770F#32
  | 96 => 0x3F56E13C#32
  | 97 => 0x3F0C9ADB#32
  | 98 => 0x3FDCCAF0#32
  | 99 => 0xBEBA7ADD#32
  | 100 => 0xBDF75D09#32
  | 101 => 0x3FF9391C#32
  | 102 => 0x3F8D25ED#32
  | 103 => 0xBF0BBC86#32
  | 104 => 0x40033816#32
  | 105 => 0xBD34DE3F#32
  | 106 => 0xBE9B3955#32
  | 107 => 0x401FE154#32
  | 108 => 0xBEC27B16#32
  | 109 => 0x3F4274D4#32
  | 110 => 0xBE46E90E#32
  | 111 => 0x3E96350F#32
  | 112 => 0x404799E3#32
  | 113 => 0x3ED38981#32
  | 114 => 0xBF691F0B#32
  | 115 => 0x3F051FB2#32
  | 116 => 0xBD24D8CA#32
  | 117 => 0xBF7B8108#32
  | 118 => 0x3E6D5148#32
  | 119 => 0x408411B8#32
  | 120 => 0xBF162AEA#32
  | 121 => 0x3F3BE800#32
  | 122 => 0x3F0543D3#32
  | 123 => 0x3E99D9BF#32
  | 124 => 0xBF9E846D#32
  | 125 => 0xBF7F2A58#32
  | 126 => 0xBF46E86B#32
  | 127 => 0x403E3D7E#32
  | _ => 0#32

noncomputable abbrev lit0t0_812 (i : Nat) : BitVec 32 := match i % 128 with
  | 0 => 0x3F58C97C#32
  | 1 => 0x40247FEA#32
  | 2 => 0x406A1185#32
  | 3 => 0x3EA08183#32
  | 4 => 0x3E522145#32
  | 5 => 0xBD89248F#32
  | 6 => 0x40175351#32
  | 7 => 0x3E3993CB#32
  | 8 => 0xBD24635B#32
  | 9 => 0x3FEA7478#32
  | 10 => 0xBF375E9D#32
  | 11 => 0xBEF65964#32
  | 12 => 0x3F8EA68C#32
  | 13 => 0x3F513E0B#32
  | 14 => 0x3E24FA89#32
  | 15 => 0xBE8FFB60#32
  | 16 => 0x3DB146D9#32
  | 17 => 0x3F6E199B#32
  | 18 => 0x3E7F7AA2#32
  | 19 => 0x3FE704D0#32
  | 20 => 0x3F9710AE#32
  | 21 => 0x3F57FF92#32
  | 22 => 0xBF95A641#32
  | 23 => 0x3DF59FFD#32
  | 24 => 0x403E0812#32
  | 25 => 0x3FB77393#32
  | 26 => 0x3FF3B50C#32
  | 27 => 0x3F5DFCC2#32
  | 28 => 0xBE4753ED#32
  | 29 => 0x3F85B12C#32
  | 30 => 0xBE4FD214#32
  | 31 => 0xBD5BB805#32
  | 32 => 0xBF8F9F00#32
  | 33 => 0x3FE6D973#32
  | 34 => 0x3FE103C6#32
  | 35 => 0x3FC9AD63#32
  | 36 => 0xBE122953#32
  | 37 => 0xBF79C3A2#32
  | 38 => 0x3F60FD18#32
  | 39 => 0x3EDB3C1F#32
  | 40 => 0xBF95E3BE#32
  | 41 => 0x4005B3B7#32
  | 42 => 0xBD670397#32
  | 43 => 0xBF1BEF8F#32
  | 44 => 0x3EED120C#32
  | 45 => 0x3EAE69CC#32
  | 46 => 0x3F999397#32
  | 47 => 0x3EAC29C3#32
  | 48 => 0x3F9DEFC0#32
  | 49 => 0x3FF083A5#32
  | 50 => 0xBF029E98#32
  | 51 => 0x3EB370F8#32
  | 52 => 0xBF14D8D2#32
  | 53 => 0x3E30400C#32
  | 54 => 0x3F7183D4#32
  | 55 => 0x3EE0954A#32
  | 56 => 0x40176EC6#32
  | 57 => 0x3F8D1551#32
  | 58 => 0x3FEBC5C3#32
  | 59 => 0xBE1BDEBE#32
  | 60 => 0xBF144AF3#32
  | 61 => 0x3F8E5D00#32
  | 62 => 0xBE4E6075#32
  | 63 => 0x4042F97C#32
  | 64 => 0x3F0A9A14#32
  | 65 => 0xBEA4E9CB#32
  | 66 => 0xBF3A33DC#32
  | 67 => 0x3FA3D019#32
  | 68 => 0xBEA4A11A#32
  | 69 => 0xBD1AF836#32
  | 70 => 0x3FB33804#32
  | 71 => 0xBF68D68C#32
  | 72 => 0x3E869C98#32
  | 73 => 0x3DC72293#32
  | 74 => 0xBD0181CE#32
  | 75 => 0x3F1A8C3C#32
  | 76 => 0x3F99BC9A#32
  | 77 => 0xBC19436A#32
  | 78 => 0x3E9A29B8#32
  | 79 => 0xBF935F14#32
  | 80 => 0x404E56BD#32
  | 81 => 0xBEA22122#32
  | 82 => 0x3E45D75B#32
  | 83 => 0xBF93A235#32
  | 84 => 0xBF823D04#32
  | 85 => 0xBD9F9BC4#32
  | 86 => 0xBBF8459D#32
  | 87 => 0x3D6936B7#32
  | 88 => 0x3F1B7BE8#32
  | 89 => 0x3DC774D3#32
  | 90 => 0x407C8FE8#32
  | 91 => 0x3D8C02F0#32
  | 92 => 0x40208B78#32
  | 93 => 0xBF0FCE16#32
  | 94 => 0xBF34CC79#32
  | 95 => 0x3FD0C014#32
  | 96 => 0xBF3F3D3B#32
  | 97 => 0x3FDEAB01#32
  | 98 => 0x3E954CBC#32
  | 99 => 0x400ADD9A#32
  | 100 => 0x3F73817C#32
  | 101 => 0xBF54ACC3#32
  | 102 => 0x3F97ADA6#32
  | 103 => 0x3FBC348F#32
  | 104 => 0x3F4D1FB8#32
  | 105 => 0x3F7A6929#32
  | 106 => 0x3FC585B9#32
  | 107 => 0x3F6CD205#32
  | 108 => 0x3FAC44D1#32
  | 109 => 0xBE8A917D#32
  | 110 => 0xBD2B27CC#32
  | 111 => 0xBE345F7D#32
  | 112 => 0x3FC57EBA#32
  | 113 => 0x3E978CAA#32
  | 114 => 0x3F2234AD#32
  | 115 => 0xBE9D491B#32
  | 116 => 0x4018BF4F#32
  | 117 => 0x3F36E4A8#32
  | 118 => 0xBE001F2F#32
  | 119 => 0xBDB73DD5#32
  | 120 => 0x3EC38B2B#32
  | 121 => 0xBF0793C0#32
  | 122 => 0x3F056826#32
  | 123 => 0x3F1109F1#32
  | 124 => 0xBEB881D3#32
  | 125 => 0x4023A4E0#32
  | 126 => 0x3E92BCC4#32
  | 127 => 0x3FDAF59D#32
  | _ => 0#32

noncomputable abbrev lit0t0_813 (i : Nat) : BitVec 32 := match i % 128 with
  | 0 => 0x3F32AE84#32
  | 1 => 0x408E7FFF#32
  | 2 => 0xBF8D18ED#32
  | 3 => 0x3ECCD109#32
  | 4 => 0x3F847BDF#32
  | 5 => 0xBE24A68B#32
  | 6 => 0x402F34C1#32
  | 7 => 0x3FBB682A#32
  | 8 => 0x3F8CD890#32
  | 9 => 0x4065F72D#32
  | 10 => 0x3FF6C800#32
  | 11 => 0x3DA04ED0#32
  | 12 => 0x3FE0D3B1#32
  | 13 => 0x3F40E042#32
  | 14 => 0xBE1A7E95#32
  | 15 => 0x3FE9351C#32
  | 16 => 0x4009C8D1#32
  | 17 => 0xBF024CB6#32
  | 18 => 0x3F9EF38B#32
  | 19 => 0xBED4B8F7#32
  | 20 => 0x40CDB12E#32
  | 21 => 0x3F9B8D42#32
  | 22 => 0x3D93F8F7#32
  | 23 => 0x40037696#32
  | 24 => 0xBDD1E201#32
  | 25 => 0x3F0A9A65#32
  | 26 => 0x3EA114D1#32
  | 27 => 0xBF06B966#32
  | 28 => 0x401D0BF5#32
  | 29 => 0x3E99A5E4#32
  | 30 => 0x3F9B6462#32
  | 31 => 0x3E3B5B33#32
  | 32 => 0xBF27A559#32
  | 33 => 0x3D776446#32
  | 34 => 0x3E3FCA3A#32
  | 35 => 0xBF1C84C6#32
  | 36 => 0x408EB24E#32
  | 37 => 0xBEE81CD0#32
  | 38 => 0xBFA92E32#32
  | 39 => 0xBF1C61C4#32
  | 40 => 0x3EE01EE1#32
  | 41 => 0x3FCF0CB8#32
  | 42 => 0x3EB4C484#32
  | 43 => 0x3F83B562#32
  | 44 => 0x3E910F38#32
  | 45 => 0x3F92118A#32
  | 46 => 0xBF4B5155#32
  | 47 => 0xBDB30A02#32
  | 48 => 0xBBEC5350#32
  | 49 => 0x3F9A6151#32
  | 50 => 0x3EB1033D#32
  | 51 => 0x3F6F797A#32
  | 52 => 0xBDD05A21#32
  | 53 => 0xBD0F524B#32
  | 54 => 0xBEA82DE4#32
  | 55 => 0x3F4C200D#32
  | 56 => 0x3FA47616#32
  | 57 => 0x3F7FA3BC#32
  | 58 => 0x3FDA8A04#32
  | 59 => 0xBEE8F94E#32
  | 60 => 0x3F5735FC#32
  | 61 => 0xBF2744FE#32
  | 62 => 0x3EFED0AA#32
  | 63 => 0x3D1DC6D7#32
  | 64 => 0x3EB4B6F5#32
  | 65 => 0xBF05F480#32
  | 66 => 0xBEA470E2#32
  | 67 => 0x3F7ABD90#32
  | 68 => 0x3F8B4FBD#32
  | 69 => 0x3F2C554A#32
  | 70 => 0x3F96FCE7#32
  | 71 => 0x401AAE16#32
  | 72 => 0xBF878693#32
  | 73 => 0x3FE11CAE#32
  | 74 => 0xBF3B033B#32
  | 75 => 0xBFD031C8#32
  | 76 => 0x3FF0F422#32
  | 77 => 0x3EE0363B#32
  | 78 => 0x3E95D61B#32
  | 79 => 0x3D8A6349#32
  | 80 => 0x3FE7A4D5#32
  | 81 => 0x3F0A30CB#32
  | 82 => 0x3FD8FD3B#32
  | 83 => 0x4054FDEA#32
  | 84 => 0x3FB6C2D5#32
  | 85 => 0xBF705CA8#32
  | 86 => 0x3FB143C8#32
  | 87 => 0x3F921C1D#32
  | 88 => 0x3DB2D811#32
  | 89 => 0xBEB81C18#32
  | 90 => 0xBE5764E4#32
  | 91 => 0x3F6C5BD4#32
  | 92 => 0x408FA37B#32
  | 93 => 0xBF954D38#32
  | 94 => 0xBF17CDF8#32
  | 95 => 0x3FD18360#32
  | 96 => 0x3F106F9B#32
  | 97 => 0x3F8062A0#32
  | 98 => 0x3F7631F0#32
  | 99 => 0x3DE36CC0#32
  | 100 => 0x3FC7F63F#32
  | 101 => 0x3EB1CAD5#32
  | 102 => 0xBFA71451#32
  | 103 => 0x3F0048F7#32
  | 104 => 0xBF8F8C2B#32
  | 105 => 0x3F2A2CDB#32
  | 106 => 0x3F9938A4#32
  | 107 => 0xBCDD9233#32
  | 108 => 0x3F3B2AF1#32
  | 109 => 0xBFA950CA#32
  | 110 => 0x3F4CB90B#32
  | 111 => 0xBF09B181#32
  | 112 => 0xBEBD8F12#32
  | 113 => 0x3F360740#32
  | 114 => 0x401921FA#32
  | 115 => 0x3F82F22F#32
  | 116 => 0x3F4112A6#32
  | 117 => 0x3FA74EFB#32
  | 118 => 0x3FCD0108#32
  | 119 => 0x403FEA9D#32
  | 120 => 0x3D9CA838#32
  | 121 => 0xBF564429#32
  | 122 => 0x3EB43FCE#32
  | 123 => 0xBF30E4B8#32
  | 124 => 0x3FFD9117#32
  | 125 => 0xBF8A7E3E#32
  | 126 => 0x3E3D91A8#32
  | 127 => 0x3F6C36F8#32
  | _ => 0#32

noncomputable abbrev lit0t0_814 (i : Nat) : BitVec 32 := match i % 128 with
  | 0 => 0x4021C655#32
  | 1 => 0x3F7CE1DA#32
  | 2 => 0xBFAF98EB#32
  | 3 => 0x3F751530#32
  | 4 => 0xBF82FC23#32
  | 5 => 0xBF8287DC#32
  | 6 => 0x3EFADE50#32
  | 7 => 0x4036BB2F#32
  | 8 => 0xBE02E011#32
  | 9 => 0x3FD4DAA7#32
  | 10 => 0xBF377E8C#32
  | 11 => 0x3E7E39EE#32
  | 12 => 0xBEAE6E01#32
  | 13 => 0xBF399BC0#32
  | 14 => 0xBF198C4F#32
  | 15 => 0x3F3A706A#32
  | 16 => 0xBF58234C#32
  | 17 => 0x40696D7E#32
  | 18 => 0xBF13F425#32
  | 19 => 0xBF192B02#32
  | 20 => 0xBED91FF8#32
  | 21 => 0x3F629AD3#32
  | 22 => 0x3FB63B53#32
  | 23 => 0xBD685A0A#32
  | 24 => 0xBD1C26BF#32
  | 25 => 0x3EF6B321#32
  | 26 => 0x3FEE7085#32
  | 27 => 0x3F5BAF38#32
  | 28 => 0x402183B7#32
  | 29 => 0x3E8EB707#32
  | 30 => 0xBF7BA012#32
  | 31 => 0xBE974219#32
  | 32 => 0xBD8A1606#32
  | 33 => 0x3DBF3F5B#32
  | 34 => 0xBF991F1E#32
  | 35 => 0x3FAC25EF#32
  | 36 => 0xBF50FC43#32
  | 37 => 0x3F9CE2E2#32
  | 38 => 0x3FBE4C28#32
  | 39 => 0xBF4CB9E4#32
  | 40 => 0x3F1723BD#32
  | 41 => 0x401153D5#32
  | 42 => 0xBEE6B250#32
  | 43 => 0x3ED33FEB#32
  | 44 => 0x4055ED1E#32
  | 45 => 0x3EF1A68C#32
  | 46 => 0x3F8D831A#32
  | 47 => 0xBF656778#32
  | 48 => 0xBEFA6263#32
  | 49 => 0x4007C9A6#32
  | 50 => 0xBBF72DBD#32
  | 51 => 0x40604E47#32
  | 52 => 0xBE81CBFA#32
  | 53 => 0xBE9F54E7#32
  | 54 => 0xBD523FAB#32
  | 55 => 0x3E57C983#32
  | 56 => 0x3DD0B759#32
  | 57 => 0x3EA194E2#32
  | 58 => 0xBF771AFE#32
  | 59 => 0xBF06ABCF#32
  | 60 => 0x3DB72826#32
  | 61 => 0x402E7FE5#32
  | 62 => 0x3F14345B#32
  | 63 => 0x3FA7D29A#32
  | 64 => 0x3E5F3114#32
  | 65 => 0xBFAC7B7B#32
  | 66 => 0x4009176F#32
  | 67 => 0x3F1FB788#32
  | 68 => 0x3DA0916D#32
  | 69 => 0xBEF6132C#32
  | 70 => 0x3F0ECBBE#32
  | 71 => 0x3F50F186#32
  | 72 => 0x400EF07F#32
  | 73 => 0xBEA85503#32
  | 74 => 0x3F7A2267#32
  | 75 => 0xBC7523AB#32
  | 76 => 0x3F3EA022#32
  | 77 => 0xBFC9D9B0#32
  | 78 => 0xBEE501C5#32
  | 79 => 0x3FB332A4#32
  | 80 => 0x3DE089D6#32
  | 81 => 0xBFCA262F#32
  | 82 => 0xBF1CD9CB#32
  | 83 => 0x3FFA192F#32
  | 84 => 0x3F8CABA0#32
  | 85 => 0x3FE82E59#32
  | 86 => 0x4095A0A3#32
  | 87 => 0x3FAE7607#32
  | 88 => 0x3D91B37B#32
  | 89 => 0xBF9C6B3E#32
  | 90 => 0x3EDAEEBF#32
  | 91 => 0x400AC959#32
  | 92 => 0xBF1A27F6#32
  | 93 => 0xBDCFD64B#32
  | 94 => 0xBE0EC815#32
  | 95 => 0xBF194E44#32
  | 96 => 0xBD3F2637#32
  | 97 => 0x3F45095A#32
  | 98 => 0x3E224D5B#32
  | 99 => 0xBEB6F8A4#32
  | 100 => 0xBF93D464#32
  | 101 => 0xBF50FEEA#32
  | 102 => 0xBF805038#32
  | 103 => 0x3F84EB2E#32
  | 104 => 0x3DF3ECCE#32
  | 105 => 0x3E2859A5#32
  | 106 => 0x404A5C73#32
  | 107 => 0x3DA621A4#32
  | 108 => 0x403C2BDD#32
  | 109 => 0x3FAA5092#32
  | 110 => 0x3FB59102#32
  | 111 => 0x3ED93020#32
  | 112 => 0x4028EF23#32
  | 113 => 0xBEE9A168#32
  | 114 => 0x3E748C64#32
  | 115 => 0x3F26A77A#32
  | 116 => 0xBE041D42#32
  | 117 => 0x3FA8558A#32
  | 118 => 0x3FA6F94F#32
  | 119 => 0xBD9EF8D2#32
  | 120 => 0x4018CE1A#32
  | 121 => 0xBF79A42A#32
  | 122 => 0x3EEFDC22#32
  | 123 => 0x3F7B85EC#32
  | 124 => 0x3F997197#32
  | 125 => 0xBE467EE2#32
  | 126 => 0xBD8088EA#32
  | 127 => 0x3F0AEBC3#32
  | _ => 0#32

noncomputable abbrev lit0t0_815 (i : Nat) : BitVec 32 := match i % 128 with
  | 0 => 0xBE89571D#32
  | 1 => 0x3FBBA31E#32
  | 2 => 0x406020AA#32
  | 3 => 0xBE7124D9#32
  | 4 => 0x40C27605#32
  | 5 => 0xBF7C5418#32
  | 6 => 0xBD149ED3#32
  | 7 => 0x3EF1DCAD#32
  | 8 => 0x4051BED6#32
  | 9 => 0xBE1DC91D#32
  | 10 => 0x3DAFDCE3#32
  | 11 => 0xBF2EC3A8#32
  | 12 => 0xBF9C7ADA#32
  | 13 => 0xBF426A65#32
  | 14 => 0xBF335E3E#32
  | 15 => 0x3F050E81#32
  | 16 => 0x3F068192#32
  | 17 => 0x3F5E8091#32
  | 18 => 0x3E3E3FCA#32
  | 19 => 0xBF44F66B#32
  | 20 => 0xBE7AFE73#32
  | 21 => 0x3FDCB6CC#32
  | 22 => 0x3EFE08A0#32
  | 23 => 0xBF8B74B9#32
  | 24 => 0xBEE2089B#32
  | 25 => 0x3EF98E4E#32
  | 26 => 0x3FF96BFB#32
  | 27 => 0x3FEA6168#32
  | 28 => 0xBE87EE59#32
  | 29 => 0x3F0835EF#32
  | 30 => 0x3E83E2B3#32
  | 31 => 0x3D91BA4B#32
  | 32 => 0x4086841B#32
  | 33 => 0x3F0C32FA#32
  | 34 => 0xBF007EA9#32
  | 35 => 0xBF49919A#32
  | 36 => 0xBF001BEC#32
  | 37 => 0x3F8D1994#32
  | 38 => 0x3E360CB6#32
  | 39 => 0xBE1F6E68#32
  | 40 => 0x3F9B1B57#32
  | 41 => 0x3FF60757#32
  | 42 => 0x3DEB0DBD#32
  | 43 => 0xBD8C92EF#32
  | 44 => 0x3F62815E#32
  | 45 => 0xBF662901#32
  | 46 => 0xBB82ECF4#32
  | 47 => 0xBEB4A071#32
  | 48 => 0x3FF0DE72#32
  | 49 => 0x3FCDCB9A#32
  | 50 => 0x40563346#32
  | 51 => 0x3FD170C0#32
  | 52 => 0x3FA34F23#32
  | 53 => 0x3F19A531#32
  | 54 => 0xBEE66E21#32
  | 55 => 0x3E1CEF8D#32
  | 56 => 0xBE154816#32
  | 57 => 0xBF214704#32
  | 58 => 0x3E0939E0#32
  | 59 => 0xBF4E5B7B#32
  | 60 => 0x3F4174DD#32
  | 61 => 0xBDAF25AF#32
  | 62 => 0x40A787DB#32
  | 63 => 0xBFDF3F6A#32
  | 64 => 0x3F7082EA#32
  | 65 => 0x3FA586B1#32
  | 66 => 0xBF2FC050#32
  | 67 => 0x3F9EF3A3#32
  | 68 => 0x3DB40463#32
  | 69 => 0x3E71AF1C#32
  | 70 => 0xBF3D209E#32
  | 71 => 0xBD89CEF9#32
  | 72 => 0xBEC93CCF#32
  | 73 => 0x4028A3AB#32
  | 74 => 0xBF3328F5#32
  | 75 => 0x4029C257#32
  | 76 => 0x40662AB4#32
  | 77 => 0x3F28356A#32
  | 78 => 0x403B52D6#32
  | 79 => 0xBF2BDD13#32
  | 80 => 0xBF6F355E#32
  | 81 => 0xBF1A3B9A#32
  | 82 => 0x400620D4#32
  | 83 => 0x3F938FFF#32
  | 84 => 0x3FBAB9CC#32
  | 85 => 0x40791F36#32
  | 86 => 0xBE8CC2CF#32
  | 87 => 0x4031AF58#32
  | 88 => 0xBDA4A371#32
  | 89 => 0x3F5C994F#32
  | 90 => 0xBD6DEE64#32
  | 91 => 0x3F9FB064#32
  | 92 => 0xBF126F93#32
  | 93 => 0xBE9F3E4D#32
  | 94 => 0x3F422B7C#32
  | 95 => 0x3EA85260#32
  | 96 => 0xBEA20D6A#32
  | 97 => 0x3FFEB7A5#32
  | 98 => 0x3E6D5612#32
  | 99 => 0xBF351890#32
  | 100 => 0xBE887EAF#32
  | 101 => 0x3FE2D0A4#32
  | 102 => 0x3E2F1722#32
  | 103 => 0x3F543AD3#32
  | 104 => 0x3FAEEF00#32
  | 105 => 0xBEC2A885#32
  | 106 => 0xBF72D19B#32
  | 107 => 0x3F95D863#32
  | 108 => 0xBD2E02F5#32
  | 109 => 0x3FF190CB#32
  | 110 => 0xBF64CF41#32
  | 111 => 0x402B2C9B#32
  | 112 => 0x3FF5E937#32
  | 113 => 0xBE99EF60#32
  | 114 => 0xBF8150EC#32
  | 115 => 0xBF5C4962#32
  | 116 => 0xBF83E424#32
  | 117 => 0xBCE49248#32
  | 118 => 0x3F4BCF6C#32
  | 119 => 0x3E09795D#32
  | 120 => 0x3F6204E6#32
  | 121 => 0x3F61A497#32
  | 122 => 0x3F1B90BA#32
  | 123 => 0x40163D3B#32
  | 124 => 0x3F0A1613#32
  | 125 => 0xBD4174D4#32
  | 126 => 0x3FC84D4D#32
  | 127 => 0xBE918E87#32
  | _ => 0#32

noncomputable abbrev lit0t0_816 (i : Nat) : BitVec 32 := match i % 128 with
  | 0 => 0xBFAE6E65#32
  | 1 => 0x3F9718A1#32
  | 2 => 0x3DEBE3CC#32
  | 3 => 0x3E174C35#32
  | 4 => 0xBF8157F4#32
  | 5 => 0x3F418F86#32
  | 6 => 0x3FD0E231#32
  | 7 => 0x3F81FF46#32
  | 8 => 0xBEC6A68C#32
  | 9 => 0x3F32D230#32
  | 10 => 0x3CA432B8#32
  | 11 => 0xBE80BDF7#32
  | 12 => 0x3E6A7F43#32
  | 13 => 0xBF1D0E3B#32
  | 14 => 0xBF3499D4#32
  | 15 => 0x400BDDCA#32
  | 16 => 0x3FC12020#32
  | 17 => 0xBF50CD06#32
  | 18 => 0xBF3BBC50#32
  | 19 => 0x3E7AB350#32
  | 20 => 0x3F94B6EC#32
  | 21 => 0xBE58D1F6#32
  | 22 => 0xBF26CCA1#32
  | 23 => 0xBF17DC72#32
  | 24 => 0x3EEEA3CC#32
  | 25 => 0x3F15CC4A#32
  | 26 => 0x400206F8#32
  | 27 => 0xBE882C60#32
  | 28 => 0x3F94856E#32
  | 29 => 0xBEC77BB2#32
  | 30 => 0xBFAC8463#32
  | 31 => 0x400E46CE#32
  | 32 => 0x3D4AFFE3#32
  | 33 => 0x403F9425#32
  | 34 => 0x3F36617C#32
  | 35 => 0x3EAF8A02#32
  | 36 => 0xBF1AA022#32
  | 37 => 0xBFE2315E#32
  | 38 => 0xBF06E1B0#32
  | 39 => 0xBEE0D359#32
  | 40 => 0x3E1F2A70#32
  | 41 => 0x3FAD8707#32
  | 42 => 0x3F85D738#32
  | 43 => 0xBF9CF4A6#32
  | 44 => 0x40ACF52A#32
  | 45 => 0x3EE11903#32
  | 46 => 0xBFA943F6#32
  | 47 => 0x3F7D6B4F#32
  | 48 => 0xBFBCB9C2#32
  | 49 => 0xBF714B5E#32
  | 50 => 0xBEEA3F6C#32
  | 51 => 0x3FC991CA#32
  | 52 => 0x3F3C8DC6#32
  | 53 => 0x4014A179#32
  | 54 => 0x3F371368#32
  | 55 => 0x3F9BD6AD#32
  | 56 => 0x3F8AECB4#32
  | 57 => 0xBFCBD47E#32
  | 58 => 0x3FDDC494#32
  | 59 => 0x3EF566C3#32
  | 60 => 0x4019310B#32
  | 61 => 0x3FE3498A#32
  | 62 => 0x3F9050B7#32
  | 63 => 0x407093C7#32
  | 64 => 0x3F783F2A#32
  | 65 => 0xBF183C5D#32
  | 66 => 0x3F65BE99#32
  | 67 => 0x40EC492B#32
  | 68 => 0x3F5026C9#32
  | 69 => 0xBF469DCC#32
  | 70 => 0xBF1A4D1D#32
  | 71 => 0xBEB0FC3A#32
  | 72 => 0xBEFF3198#32
  | 73 => 0x401FEF49#32
  | 74 => 0xBF9F03A0#32
  | 75 => 0x407CB5DE#32
  | 76 => 0x3FA5983A#32
  | 77 => 0xBE584C22#32
  | 78 => 0xBEB1F2BC#32
  | 79 => 0xBDE85C00#32
  | 80 => 0x3DC7ED55#32
  | 81 => 0x3F5C8853#32
  | 82 => 0x3F327438#32
  | 83 => 0xBF0B40A9#32
  | 84 => 0xBF91C46B#32
  | 85 => 0xBDFDDDD3#32
  | 86 => 0x3EBCF7B0#32
  | 87 => 0x3E40D84C#32
  | 88 => 0xBF180A5F#32
  | 89 => 0xBE6ADAC2#32
  | 90 => 0x406E1D22#32
  | 91 => 0xBFB50C7C#32
  | 92 => 0x3F50715B#32
  | 93 => 0x3DBD7E00#32
  | 94 => 0xBE93BD29#32
  | 95 => 0xBFB00CF6#32
  | 96 => 0xBF0C1EEA#32
  | 97 => 0x404555C2#32
  | 98 => 0xBF3DF368#32
  | 99 => 0x3CBFA6F7#32
  | 100 => 0xBFABA073#32
  | 101 => 0x3DC49701#32
  | 102 => 0x3F6BF1D8#32
  | 103 => 0x3F11CF89#32
  | 104 => 0x3E494D04#32
  | 105 => 0xBF1C0988#32
  | 106 => 0xBB37BFFF#32
  | 107 => 0x3FDF2B34#32
  | 108 => 0xBFB1207C#32
  | 109 => 0x3DFCFE74#32
  | 110 => 0x3FB06435#32
  | 111 => 0x3EDB739D#32
  | 112 => 0x3FCA6E22#32
  | 113 => 0x3FF15558#32
  | 114 => 0xBF8736A8#32
  | 115 => 0xBF4FDC98#32
  | 116 => 0xBF8E9EED#32
  | 117 => 0xBFB48114#32
  | 118 => 0x3EA320BE#32
  | 119 => 0x3EBFC4A6#32
  | 120 => 0x3EE9EE7C#32
  | 121 => 0x3DEC6361#32
  | 122 => 0x4020636C#32
  | 123 => 0xBFC9463A#32
  | 124 => 0x3F8D6804#32
  | 125 => 0x3FA807B6#32
  | 126 => 0x3FB3571A#32
  | 127 => 0x3EE4E213#32
  | _ => 0#32

noncomputable abbrev lit0t0_817 (i : Nat) : BitVec 32 := match i % 128 with
  | 0 => 0x3F9A2600#32
  | 1 => 0x3CA6D909#32
  | 2 => 0xBEB3C420#32
  | 3 => 0x3F8360BB#32
  | 4 => 0x3F3F5F92#32
  | 5 => 0x3E04BE9B#32
  | 6 => 0xBF341B07#32
  | 7 => 0x3D4EE65F#32
  | 8 => 0xBE9BF048#32
  | 9 => 0xBF2D1C5C#32
  | 10 => 0xBEE87502#32
  | 11 => 0xBE232EE2#32
  | 12 => 0xBFD7EF4C#32
  | 13 => 0x3E58161B#32
  | 14 => 0x3E21BA1B#32
  | 15 => 0x3F86F8FC#32
  | 16 => 0x3F79318F#32
  | 17 => 0x3F539586#32
  | 18 => 0x3F105246#32
  | 19 => 0x3FB2FF78#32
  | 20 => 0xBF608E5A#32
  | 21 => 0x400ABAC8#32
  | 22 => 0x3FB32450#32
  | 23 => 0xBF88F38E#32
  | 24 => 0x3EE6EC44#32
  | 25 => 0x3FA6512C#32
  | 26 => 0x3F74FDB4#32
  | 27 => 0x404BAD34#32
  | 28 => 0x3CB59EDE#32
  | 29 => 0xBF87EF2D#32
  | 30 => 0x404AE86C#32
  | 31 => 0xBF87A41C#32
  | 32 => 0xBF6A68D1#32
  | 33 => 0x4043E17A#32
  | 34 => 0x3FCD6233#32
  | 35 => 0x401ACA43#32
  | 36 => 0xBF915313#32
  | 37 => 0x400A6ADA#32
  | 38 => 0xBEEEC298#32
  | 39 => 0x3EFA2F0A#32
  | 40 => 0xBF448B79#32
  | 41 => 0xBEDAB127#32
  | 42 => 0xBEB5BCFB#32
  | 43 => 0x3F1E3934#32
  | 44 => 0x4034F2C1#32
  | 45 => 0x3E14774D#32
  | 46 => 0xBF5F7B9A#32
  | 47 => 0xBC00A65B#32
  | 48 => 0xBF454946#32
  | 49 => 0x4001073B#32
  | 50 => 0x3F554BE9#32
  | 51 => 0x3F07C000#32
  | 52 => 0x3E1C977D#32
  | 53 => 0xBF06A428#32
  | 54 => 0xBF8E397D#32
  | 55 => 0xBE880BB6#32
  | 56 => 0x3F484A0F#32
  | 57 => 0x3F32D34B#32
  | 58 => 0xBF9840D5#32
  | 59 => 0x3F5715D0#32
  | 60 => 0x40349D21#32
  | 61 => 0xBF352A23#32
  | 62 => 0x3EB13BA6#32
  | 63 => 0xBF079623#32
  | 64 => 0x3F3944BF#32
  | 65 => 0x40100167#32
  | 66 => 0xBEE4ECAE#32
  | 67 => 0x3FADA71A#32
  | 68 => 0x40A6B0C4#32
  | 69 => 0xBDDB7CB5#32
  | 70 => 0xBEDE4C85#32
  | 71 => 0x4045FA8C#32
  | 72 => 0xBF06CB75#32
  | 73 => 0x3F00B251#32
  | 74 => 0x3EA22AA9#32
  | 75 => 0x3FF141A3#32
  | 76 => 0xBC23FA3B#32
  | 77 => 0x3F5B47F5#32
  | 78 => 0x3E0241AD#32
  | 79 => 0x3FA8CAFD#32
  | 80 => 0xBEB69FC3#32
  | 81 => 0x3FF27D9D#32
  | 82 => 0x400649D3#32
  | 83 => 0x3F27884F#32
  | 84 => 0xBE8FFF8D#32
  | 85 => 0xBE5A830A#32
  | 86 => 0x405D594D#32
  | 87 => 0x3D5315CA#32
  | 88 => 0xBE03C4D4#32
  | 89 => 0xBF239562#32
  | 90 => 0x3FEB6DC2#32
  | 91 => 0x3E4D3BDF#32
  | 92 => 0xBE98C01D#32
  | 93 => 0x3EC73C07#32
  | 94 => 0x3E818AFB#32
  | 95 => 0xBED15678#32
  | 96 => 0xBF8421F4#32
  | 97 => 0x3FFEAD11#32
  | 98 => 0x3F7CF07E#32
  | 99 => 0x3F97279F#32
  | 100 => 0xBE1FB366#32
  | 101 => 0x3FA99FD8#32
  | 102 => 0x402AFD51#32
  | 103 => 0xBE3E16B6#32
  | 104 => 0x3FB320E3#32
  | 105 => 0x3FC93A24#32
  | 106 => 0xBF133744#32
  | 107 => 0x4013F4D1#32
  | 108 => 0xBE9EA479#32
  | 109 => 0x3E85CB31#32
  | 110 => 0x3F66A5B5#32
  | 111 => 0x3F9A8876#32
  | 112 => 0x3FE901E4#32
  | 113 => 0x3F45ECDD#32
  | 114 => 0x40671E76#32
  | 115 => 0xBCBCE569#32
  | 116 => 0x3E28ED39#32
  | 117 => 0xBF6BDFE2#32
  | 118 => 0xBF8FB954#32
  | 119 => 0xBEABE88F#32
  | 120 => 0xBF7EE158#32
  | 121 => 0x400C0896#32
  | 122 => 0x3FC39FE7#32
  | 123 => 0x3EAF1C2B#32
  | 124 => 0x3FD8E1BA#32
  | 125 => 0x3E7C66A0#32
  | 126 => 0x3F3B7DB3#32
  | 127 => 0xBD77B091#32
  | _ => 0#32

noncomputable abbrev lit0t0_818 (i : Nat) : BitVec 32 := match i % 128 with
  | 0 => 0x3FAA0909#32
  | 1 => 0x40F08D5A#32
  | 2 => 0xBE5788E6#32
  | 3 => 0xBFA4CC32#32
  | 4 => 0x3F3AC5EA#32
  | 5 => 0x3F9A33E9#32
  | 6 => 0x3FBA304C#32
  | 7 => 0x3F159B04#32
  | 8 => 0x3DAD85C7#32
  | 9 => 0x3F766400#32
  | 10 => 0xBFAABE56#32
  | 11 => 0x3DC87F70#32
  | 12 => 0xBDF5EC4B#32
  | 13 => 0x400B25A7#32
  | 14 => 0x3FCEA639#32
  | 15 => 0xBEF3400F#32
  | 16 => 0x3E47C7CF#32
  | 17 => 0xBF72AE41#32
  | 18 => 0xBEC663AA#32
  | 19 => 0x3FD8245B#32
  | 20 => 0xBEF11632#32
  | 21 => 0x3FE6687B#32
  | 22 => 0xBE9783E6#32
  | 23 => 0x3F020F9F#32
  | 24 => 0x404A790E#32
  | 25 => 0x402C26BE#32
  | 26 => 0xBD977800#32
  | 27 => 0xBE2232A8#32
  | 28 => 0xBF83FC24#32
  | 29 => 0x3ECFFD3F#32
  | 30 => 0x4047DC17#32
  | 31 => 0xBF1D22CE#32
  | 32 => 0x3F230A62#32
  | 33 => 0x3F59F11F#32
  | 34 => 0x3E0EF5A9#32
  | 35 => 0xBE7BE7EF#32
  | 36 => 0x3E88E151#32
  | 37 => 0xBFAD73CA#32
  | 38 => 0x3E28A2CA#32
  | 39 => 0xBDE82E22#32
  | 40 => 0xBEC0C647#32
  | 41 => 0x3EC22C18#32
  | 42 => 0x3FA2C759#32
  | 43 => 0x400F5419#32
  | 44 => 0x3F455CE7#32
  | 45 => 0xBF33718E#32
  | 46 => 0x3FBF30F7#32
  | 47 => 0x3EC72A5E#32
  | 48 => 0x407E1D76#32
  | 49 => 0x3F8146E2#32
  | 50 => 0x403447A6#32
  | 51 => 0x3FDD52FC#32
  | 52 => 0xBF29E3BD#32
  | 53 => 0x3E31CA76#32
  | 54 => 0x401B7B7A#32
  | 55 => 0x4004775C#32
  | 56 => 0x3F5E8748#32
  | 57 => 0xBF7BC527#32
  | 58 => 0xBF6146B2#32
  | 59 => 0x3FF93E42#32
  | 60 => 0x3E8A6C9D#32
  | 61 => 0x3D304E76#32
  | 62 => 0xBF7DE7E7#32
  | 63 => 0x408FF9B8#32
  | 64 => 0xBF95E257#32
  | 65 => 0x3D20341E#32
  | 66 => 0x3FBBDC69#32
  | 67 => 0x3F48F188#32
  | 68 => 0xBF9CCC55#32
  | 69 => 0x408517D0#32
  | 70 => 0xBEA8F72C#32
  | 71 => 0x3F929FFC#32
  | 72 => 0xBE2919C0#32
  | 73 => 0x3F171194#32
  | 74 => 0xBB79DBEA#32
  | 75 => 0x3F3573D6#32
  | 76 => 0x402AB1D3#32
  | 77 => 0x3DC00EA8#32
  | 78 => 0x3F70CB30#32
  | 79 => 0x3D45DDC1#32
  | 80 => 0xBF23E88B#32
  | 81 => 0x3E5EB552#32
  | 82 => 0x3E76DDB2#32
  | 83 => 0xBE85E309#32
  | 84 => 0x3F122185#32
  | 85 => 0x3F933ECD#32
  | 86 => 0x3EF4B7F9#32
  | 87 => 0x3F9B745F#32
  | 88 => 0x3F4ABE90#32
  | 89 => 0x3EED4D2C#32
  | 90 => 0x400B88BF#32
  | 91 => 0x3C4B5FCD#32
  | 92 => 0x3DC0C179#32
  | 93 => 0x3DA553E5#32
  | 94 => 0xBF544119#32
  | 95 => 0x3FDF13CC#32
  | 96 => 0x3FE473F0#32
  | 97 => 0xBE234B65#32
  | 98 => 0x3E00F2CE#32
  | 99 => 0xBD89C0D5#32
  | 100 => 0x3F963F8B#32
  | 101 => 0xBEB76544#32
  | 102 => 0xBD83528D#32
  | 103 => 0x3E875C36#32
  | 104 => 0x403C3E39#32
  | 105 => 0x3F2D72DA#32
  | 106 => 0x40307795#32
  | 107 => 0x3F7C9E0A#32
  | 108 => 0x3F3483C1#32
  | 109 => 0xBD87AF81#32
  | 110 => 0xBE3DE5BA#32
  | 111 => 0x3F73950A#32
  | 112 => 0x4026BD17#32
  | 113 => 0x4029269C#32
  | 114 => 0xBF18CB71#32
  | 115 => 0x3FDE72B1#32
  | 116 => 0xBF17E59F#32
  | 117 => 0xBF65065A#32
  | 118 => 0xBF78B616#32
  | 119 => 0x407AB357#32
  | 120 => 0xBF791FB0#32
  | 121 => 0x3F2C08D1#32
  | 122 => 0x3E3880DF#32
  | 123 => 0xBC2239B8#32
  | 124 => 0x3E8F3834#32
  | 125 => 0xBDA4EDC6#32
  | 126 => 0xBEDA6A42#32
  | 127 => 0x4025C92C#32
  | _ => 0#32

noncomputable abbrev lit0t0_819 (i : Nat) : BitVec 32 := match i % 128 with
  | 0 => 0x40030F9F#32
  | 1 => 0x3FF1D864#32
  | 2 => 0x3FE4506A#32
  | 3 => 0x3E70928C#32
  | 4 => 0x3E6633D3#32
  | 5 => 0xBFCF635C#32
  | 6 => 0xBDB924EE#32
  | 7 => 0x400D2572#32
  | 8 => 0x40306FE0#32
  | 9 => 0xBF21AACA#32
  | 10 => 0xBFAD8CDE#32
  | 11 => 0x40268C50#32
  | 12 => 0x3F0978E1#32
  | 13 => 0x3F112714#32
  | 14 => 0xBFE4E414#32
  | 15 => 0xBF88243A#32
  | 16 => 0xBD9D5809#32
  | 17 => 0xBF5F4F9C#32
  | 18 => 0x3F274ECB#32
  | 19 => 0xBED8500D#32
  | 20 => 0xBE80B7C4#32
  | 21 => 0xBF2A714D#32
  | 22 => 0x3E9E1D58#32
  | 23 => 0x3D5BB497#32
  | 24 => 0x3FB909AB#32
  | 25 => 0x3FCE68E2#32
  | 26 => 0x3F0C48F2#32
  | 27 => 0xBE63788F#32
  | 28 => 0x3F522ECF#32
  | 29 => 0x3F3CE0F3#32
  | 30 => 0x3E98850E#32
  | 31 => 0x3EFEA622#32
  | 32 => 0x3BD91EBD#32
  | 33 => 0x3FBFF620#32
  | 34 => 0x3F7C946C#32
  | 35 => 0x3C9841FE#32
  | 36 => 0x401599FE#32
  | 37 => 0xBF26C863#32
  | 38 => 0xBE66813D#32
  | 39 => 0x3E03D6D0#32
  | 40 => 0x3EAAF8C6#32
  | 41 => 0x3C2284AA#32
  | 42 => 0x3F3B92E2#32
  | 43 => 0xBEF58B7E#32
  | 44 => 0xBEC911E3#32
  | 45 => 0x404619C3#32
  | 46 => 0x3F32AFF7#32
  | 47 => 0x3F60B5C2#32
  | 48 => 0x3F089382#32
  | 49 => 0xBF881C0C#32
  | 50 => 0xBDA947D0#32
  | 51 => 0xBFA63D7C#32
  | 52 => 0x400957EA#32
  | 53 => 0x3F0B0062#32
  | 54 => 0x3E9336F6#32
  | 55 => 0x40642372#32
  | 56 => 0x3E603F34#32
  | 57 => 0xBF0BB95E#32
  | 58 => 0x3F39150F#32
  | 59 => 0xBF9ED0D6#32
  | 60 => 0x403094A0#32
  | 61 => 0x3FFCED6F#32
  | 62 => 0x3F667383#32
  | 63 => 0x3E8C94D3#32
  | 64 => 0x3F871202#32
  | 65 => 0x3EF0B281#32
  | 66 => 0x3F993E6D#32
  | 67 => 0x3F718251#32
  | 68 => 0x3FC90224#32
  | 69 => 0xBF564E14#32
  | 70 => 0x3F0A1B0B#32
  | 71 => 0xBE3BF688#32
  | 72 => 0xBF477768#32
  | 73 => 0xBE157691#32
  | 74 => 0x3E0F7EC2#32
  | 75 => 0x3EE11E2D#32
  | 76 => 0x3CF3B565#32
  | 77 => 0x3F1646FC#32
  | 78 => 0x3E831122#32
  | 79 => 0xBDE77720#32
  | 80 => 0x404ADF41#32
  | 81 => 0xBF8B4C93#32
  | 82 => 0xBEB662E5#32
  | 83 => 0x3ED2180F#32
  | 84 => 0xBF17047B#32
  | 85 => 0x401EF81C#32
  | 86 => 0x3EEDE850#32
  | 87 => 0x3FDBC2A9#32
  | 88 => 0x401C6B1E#32
  | 89 => 0x3CBC78AA#32
  | 90 => 0x3F70A2FB#32
  | 91 => 0x3E532F99#32
  | 92 => 0x3EBAC8D4#32
  | 93 => 0xBEE8335F#32
  | 94 => 0xBF1F3D65#32
  | 95 => 0x3F097B85#32
  | 96 => 0x3E87D0AB#32
  | 97 => 0x3E61FB65#32
  | 98 => 0xBF50B2BF#32
  | 99 => 0x3F1FCE2E#32
  | 100 => 0x4004F0BC#32
  | 101 => 0x3F4DC67B#32
  | 102 => 0x3EB7EFA5#32
  | 103 => 0xBF346B52#32
  | 104 => 0x3F3C7C4F#32
  | 105 => 0x408D34F0#32
  | 106 => 0x3FBF1FCA#32
  | 107 => 0x3EBC585A#32
  | 108 => 0x40116E7E#32
  | 109 => 0x3ECF1538#32
  | 110 => 0x3F8C5DD9#32
  | 111 => 0x3F0983DC#32
  | 112 => 0x3DE085B9#32
  | 113 => 0x3F8CB386#32
  | 114 => 0xBF859347#32
  | 115 => 0x3DCAB8AE#32
  | 116 => 0x403B69F0#32
  | 117 => 0x3E986F7C#32
  | 118 => 0xBF6A2D8F#32
  | 119 => 0xBF96F810#32
  | 120 => 0xBF278B7B#32
  | 121 => 0x408E51E0#32
  | 122 => 0x3F0BCE60#32
  | 123 => 0x3FAE2169#32
  | 124 => 0x3E81C3CD#32
  | 125 => 0x3E09CF67#32
  | 126 => 0x3F6AAFAA#32
  | 127 => 0x3EA0D7E3#32
  | _ => 0#32

noncomputable abbrev lit0t0_820 (i : Nat) : BitVec 32 := match i % 128 with
  | 0 => 0xBEB15A77#32
  | 1 => 0x3EC03031#32
  | 2 => 0x3DA29E72#32
  | 3 => 0x3F993DB5#32
  | 4 => 0x3FA035AA#32
  | 5 => 0x3E6092AE#32
  | 6 => 0x3D910544#32
  | 7 => 0x3F108938#32
  | 8 => 0x400514A4#32
  | 9 => 0x3FD69E63#32
  | 10 => 0x3D2DA1D5#32
  | 11 => 0x3F3BE69B#32
  | 12 => 0x3EF88D98#32
  | 13 => 0x4041C463#32
  | 14 => 0xBEEEE7CE#32
  | 15 => 0x3E8C80D1#32
  | 16 => 0x3F9FC97C#32
  | 17 => 0x4009CD33#32
  | 18 => 0x3FF86982#32
  | 19 => 0x3F346781#32
  | 20 => 0x3FEC9B07#32
  | 21 => 0x3F83C742#32
  | 22 => 0xBFBE430B#32
  | 23 => 0x4038E268#32
  | 24 => 0x3EEA0C55#32
  | 25 => 0x3FC7E07E#32
  | 26 => 0xBF5F733E#32
  | 27 => 0x3FA76157#32
  | 28 => 0x3F0ECF73#32
  | 29 => 0x40214E72#32
  | 30 => 0x3E9267E6#32
  | 31 => 0xBE2C51B0#32
  | 32 => 0x3FD76D31#32
  | 33 => 0x3F5630E5#32
  | 34 => 0xBE7BEC81#32
  | 35 => 0xBF47D85B#32
  | 36 => 0x3F8DD269#32
  | 37 => 0x3FEA4710#32
  | 38 => 0x401D0397#32
  | 39 => 0xBF013E01#32
  | 40 => 0x3F5AD0DB#32
  | 41 => 0x3EEEC650#32
  | 42 => 0x3FA8EC6A#32
  | 43 => 0xBE82D6B2#32
  | 44 => 0x3FE94DD2#32
  | 45 => 0xBE9DE0BD#32
  | 46 => 0xBF46E519#32
  | 47 => 0x3E13413C#32
  | 48 => 0xBEBD948A#32
  | 49 => 0x40452DFC#32
  | 50 => 0x3E1CD0F4#32
  | 51 => 0xBF3178C8#32
  | 52 => 0xBF8271DF#32
  | 53 => 0x3F490758#32
  | 54 => 0xBE94C25F#32
  | 55 => 0x4039899C#32
  | 56 => 0x3ED8F051#32
  | 57 => 0xBF720954#32
  | 58 => 0x3F3D0172#32
  | 59 => 0x4059C73F#32
  | 60 => 0x3D68BBCC#32
  | 61 => 0x3FB97CC8#32
  | 62 => 0x3EFD2FC7#32
  | 63 => 0x3F92A7D9#32
  | 64 => 0xBCE62785#32
  | 65 => 0xBEA82B25#32
  | 66 => 0x3FD2E193#32
  | 67 => 0xBEEC700E#32
  | 68 => 0x3ECF097D#32
  | 69 => 0xBDCCCAAC#32
  | 70 => 0x3F652E3C#32
  | 71 => 0x3E87FCAA#32
  | 72 => 0x3FB55F1B#32
  | 73 => 0x3E8B6217#32
  | 74 => 0x3F660C4D#32
  | 75 => 0x3E9E1901#32
  | 76 => 0xBDFD50BD#32
  | 77 => 0xBF0A7EB8#32
  | 78 => 0x3FA6A6E6#32
  | 79 => 0x3E652123#32
  | 80 => 0x402D7706#32
  | 81 => 0x4024F142#32
  | 82 => 0xBFB1AB47#32
  | 83 => 0x3F1290DC#32
  | 84 => 0x4038F24C#32
  | 85 => 0xBF843A26#32
  | 86 => 0xBF58FEF4#32
  | 87 => 0x3F431181#32
  | 88 => 0xBF1C4BC5#32
  | 89 => 0xBF264241#32
  | 90 => 0x3F636788#32
  | 91 => 0x3FCA6BCD#32
  | 92 => 0x3D43970E#32
  | 93 => 0x3E2AFD21#32
  | 94 => 0xBED925E9#32
  | 95 => 0x402BDD76#32
  | 96 => 0x3FFAFB48#32
  | 97 => 0xBF2FF9F9#32
  | 98 => 0xBF66D88F#32
  | 99 => 0x40440AE4#32
  | 100 => 0xBE828FEF#32
  | 101 => 0xBD49F663#32
  | 102 => 0x3F81DE4C#32
  | 103 => 0x4050EAEA#32
  | 104 => 0xBF55D7BB#32
  | 105 => 0x400BF69C#32
  | 106 => 0xBD5BADD5#32
  | 107 => 0x3EBD0878#32
  | 108 => 0xBE0430A0#32
  | 109 => 0x3FC38BEE#32
  | 110 => 0x3ECB36E8#32
  | 111 => 0xBF1CBFFD#32
  | 112 => 0x3F954B1A#32
  | 113 => 0xBF26F4FF#32
  | 114 => 0xBDB2D4A2#32
  | 115 => 0x3E435C86#32
  | 116 => 0x3FF6E929#32
  | 117 => 0xBDFFDB33#32
  | 118 => 0xBEE30B94#32
  | 119 => 0x3F82EEE2#32
  | 120 => 0x3FB57D48#32
  | 121 => 0xBEA349A6#32
  | 122 => 0x3DFBEF01#32
  | 123 => 0x3F4BF5B2#32
  | 124 => 0x3E6C9C3F#32
  | 125 => 0x3DE0DFA0#32
  | 126 => 0xBE9F42CA#32
  | 127 => 0x3F903832#32
  | _ => 0#32

noncomputable abbrev lit0t0_821 (i : Nat) : BitVec 32 := match i % 128 with
  | 0 => 0x3DD19F33#32
  | 1 => 0x401F1F38#32
  | 2 => 0xBF55E9FC#32
  | 3 => 0xBE7285AD#32
  | 4 => 0x3F309DC4#32
  | 5 => 0xBF6A3DDC#32
  | 6 => 0xBFABAE9C#32
  | 7 => 0x3EA71C6A#32
  | 8 => 0x3EE63004#32
  | 9 => 0x3D00AEFB#32
  | 10 => 0xBF9607AF#32
  | 11 => 0x3F180F1F#32
  | 12 => 0xBDE8030E#32
  | 13 => 0x3FB2AB00#32
  | 14 => 0xBE0A126C#32
  | 15 => 0x3EC9FE63#32
  | 16 => 0x3F94FCA8#32
  | 17 => 0xBE3154AD#32
  | 18 => 0x3FD0DCE6#32
  | 19 => 0xBE400CF6#32
  | 20 => 0x3F84D9B8#32
  | 21 => 0x3D07BA83#32
  | 22 => 0x3D50F87C#32
  | 23 => 0xBDC9BEF8#32
  | 24 => 0xBFA5B3EA#32
  | 25 => 0xBF4DD720#32
  | 26 => 0x404D7692#32
  | 27 => 0xBEAAA3DA#32
  | 28 => 0x3FFB6D82#32
  | 29 => 0xBEE77BAE#32
  | 30 => 0x3FB33177#32
  | 31 => 0xBEF53B22#32
  | 32 => 0xBF93FC9F#32
  | 33 => 0xBF54A528#32
  | 34 => 0x3F6DE40F#32
  | 35 => 0x3EE252BB#32
  | 36 => 0x3E9D25CA#32
  | 37 => 0x3F233FBD#32
  | 38 => 0xBE8A09AF#32
  | 39 => 0x3FA7C21C#32
  | 40 => 0x3EB6E4B4#32
  | 41 => 0x3FDF00A2#32
  | 42 => 0xBF682744#32
  | 43 => 0xBF86B004#32
  | 44 => 0xBE0DC2F9#32
  | 45 => 0x3FF7D04A#32
  | 46 => 0x3F456B0B#32
  | 47 => 0xBEFAAF49#32
  | 48 => 0x3E5128FE#32
  | 49 => 0x3DD62740#32
  | 50 => 0xBE51469E#32
  | 51 => 0x3FEC1B46#32
  | 52 => 0x3F866CD1#32
  | 53 => 0xBE6F4771#32
  | 54 => 0x3FC6057A#32
  | 55 => 0xBF102811#32
  | 56 => 0x3F16E40C#32
  | 57 => 0x3FB1A734#32
  | 58 => 0xBE38D512#32
  | 59 => 0xBF3B7DCE#32
  | 60 => 0x3EA08E36#32
  | 61 => 0xBF28BD45#32
  | 62 => 0x400BEE57#32
  | 63 => 0x401079FE#32
  | 64 => 0xBF33C50B#32
  | 65 => 0xBDF9AE96#32
  | 66 => 0x40292BAF#32
  | 67 => 0x3FCC1D46#32
  | 68 => 0x3F416E00#32
  | 69 => 0xBF7E3416#32
  | 70 => 0xBF275A4E#32
  | 71 => 0xBEDEDAC7#32
  | 72 => 0xBF73F08A#32
  | 73 => 0xBFA91C3A#32
  | 74 => 0xBE717736#32
  | 75 => 0x3FA5F8FB#32
  | 76 => 0xBF9F2584#32
  | 77 => 0x3E992D2A#32
  | 78 => 0x3FCF9312#32
  | 79 => 0x3FBECA81#32
  | 80 => 0xBF8EF496#32
  | 81 => 0xBEDA64A3#32
  | 82 => 0x3FA81ACA#32
  | 83 => 0x3E471BD3#32
  | 84 => 0xBF9C122A#32
  | 85 => 0xBF5E62B5#32
  | 86 => 0x3FA1ECEE#32
  | 87 => 0x3A5DD806#32
  | 88 => 0x3DD6811E#32
  | 89 => 0xBE07D085#32
  | 90 => 0x402A3F24#32
  | 91 => 0xBF990AFF#32
  | 92 => 0x3F9A93D4#32
  | 93 => 0x3F5750C6#32
  | 94 => 0x3DA39F18#32
  | 95 => 0xBE5BB6CC#32
  | 96 => 0xBF5FE738#32
  | 97 => 0x4020EDEF#32
  | 98 => 0x3CBBC9F3#32
  | 99 => 0x3F7DC661#32
  | 100 => 0x3F8284B7#32
  | 101 => 0x406294AD#32
  | 102 => 0x3F86F982#32
  | 103 => 0x3FF60D56#32
  | 104 => 0x3FF0AF9E#32
  | 105 => 0x3F056082#32
  | 106 => 0x4082ECDE#32
  | 107 => 0xBE986546#32
  | 108 => 0xBD9CB56D#32
  | 109 => 0x400FA210#32
  | 110 => 0x3F719AF7#32
  | 111 => 0xBC0B759F#32
  | 112 => 0x3F7996F6#32
  | 113 => 0xBFDC22BE#32
  | 114 => 0x3F43D726#32
  | 115 => 0xBFA8C5FF#32
  | 116 => 0xBF45E504#32
  | 117 => 0xBF905B55#32
  | 118 => 0x3FFCA551#32
  | 119 => 0xBF156C24#32
  | 120 => 0x3FCE1497#32
  | 121 => 0xBF9C8DBE#32
  | 122 => 0xBFCACA34#32
  | 123 => 0x3EA45D0F#32
  | 124 => 0xBF001E82#32
  | 125 => 0x3FC97C07#32
  | 126 => 0x3ECE9CDC#32
  | 127 => 0x3D25F21F#32
  | _ => 0#32

noncomputable abbrev lit0t0_822 (i : Nat) : BitVec 32 := match i % 128 with
  | 0 => 0xBF5DB3B7#32
  | 1 => 0x3F97480C#32
  | 2 => 0xBF0C53E2#32
  | 3 => 0xBF29321D#32
  | 4 => 0xBEB20475#32
  | 5 => 0xBD9FE6EB#32
  | 6 => 0xBF0F12E4#32
  | 7 => 0xBE11BF8E#32
  | 8 => 0x3F8E6B47#32
  | 9 => 0xBFA626B2#32
  | 10 => 0x3EB6471C#32
  | 11 => 0x3F944713#32
  | 12 => 0xBED85C88#32
  | 13 => 0x407FE03C#32
  | 14 => 0x3F46B366#32
  | 15 => 0x4000D437#32
  | 16 => 0x3F853D1C#32
  | 17 => 0xBEDFCDF6#32
  | 18 => 0x4089130B#32
  | 19 => 0x3F9FF4E8#32
  | 20 => 0xBEF4E854#32
  | 21 => 0x4011CFCE#32
  | 22 => 0x3E9054FB#32
  | 23 => 0x3F82EBE5#32
  | 24 => 0x3FC8CAF4#32
  | 25 => 0x3FE05788#32
  | 26 => 0x3F540770#32
  | 27 => 0x3F9B461C#32
  | 28 => 0x3BE87697#32
  | 29 => 0xBF05068F#32
  | 30 => 0x3F53CC0C#32
  | 31 => 0x3F922A4D#32
  | 32 => 0x3F34D84B#32
  | 33 => 0x3FD44E5C#32
  | 34 => 0x3FAEF799#32
  | 35 => 0x3FDABF32#32
  | 36 => 0x3FFE6F8A#32
  | 37 => 0x3F79CF08#32
  | 38 => 0x3FF040B9#32
  | 39 => 0x3F6231BA#32
  | 40 => 0xBE0B9B6B#32
  | 41 => 0x3FA43427#32
  | 42 => 0x3F09BA9A#32
  | 43 => 0x400D4A82#32
  | 44 => 0xBFB7EB52#32
  | 45 => 0x3FA5C8E0#32
  | 46 => 0x3FB87C2D#32
  | 47 => 0x3EF0711D#32
  | 48 => 0x3F8288C8#32
  | 49 => 0x3F257AAC#32
  | 50 => 0xBF02FF5E#32
  | 51 => 0x3EC0A86B#32
  | 52 => 0x3FB88C68#32
  | 53 => 0xBF3B7766#32
  | 54 => 0x3F793998#32
  | 55 => 0x3F7AF566#32
  | 56 => 0x3F8DB3D0#32
  | 57 => 0xBF444455#32
  | 58 => 0x3ECB8665#32
  | 59 => 0xBF68B1BE#32
  | 60 => 0x401497BE#32
  | 61 => 0x3FF2BA11#32
  | 62 => 0x3DD4656C#32
  | 63 => 0xBF3E4B64#32
  | 64 => 0x3E66C9F1#32
  | 65 => 0x3F131774#32
  | 66 => 0x3FEEB616#32
  | 67 => 0x3FFBF256#32
  | 68 => 0xBD967078#32
  | 69 => 0xBF631DA9#32
  | 70 => 0x3F5914C4#32
  | 71 => 0x400E9588#32
  | 72 => 0xBF723658#32
  | 73 => 0x3F26659B#32
  | 74 => 0x3E4D243C#32
  | 75 => 0x3F41DBAE#32
  | 76 => 0xBF284AD8#32
  | 77 => 0x400751B8#32
  | 78 => 0x3E15F4BE#32
  | 79 => 0x3FB7B9D4#32
  | 80 => 0x3E603D33#32
  | 81 => 0x3F66B62A#32
  | 82 => 0x3FB5E170#32
  | 83 => 0xBD79A24B#32
  | 84 => 0x3FCBA1F3#32
  | 85 => 0x3F7B0595#32
  | 86 => 0xBE423F6C#32
  | 87 => 0xBF327762#32
  | 88 => 0xBE63435A#32
  | 89 => 0xBD10E04A#32
  | 90 => 0xBD0E8EBC#32
  | 91 => 0x40297268#32
  | 92 => 0xBDAB4A0A#32
  | 93 => 0xBE331CA0#32
  | 94 => 0x400AF5ED#32
  | 95 => 0x3F6869AC#32
  | 96 => 0xBE650B4E#32
  | 97 => 0x402C0366#32
  | 98 => 0x3E691F81#32
  | 99 => 0x3FDE5622#32
  | 100 => 0xBFA0CA72#32
  | 101 => 0x3EAE93AC#32
  | 102 => 0x401CAE75#32
  | 103 => 0x3FA13004#32
  | 104 => 0x3FA62F77#32
  | 105 => 0x40046B68#32
  | 106 => 0x3BA86C9E#32
  | 107 => 0x3D7623A8#32
  | 108 => 0x3F832956#32
  | 109 => 0x3FC3FDA2#32
  | 110 => 0x3F98B220#32
  | 111 => 0x3FA11A5D#32
  | 112 => 0x3F3AC365#32
  | 113 => 0x3F22FB85#32
  | 114 => 0xBFA2C402#32
  | 115 => 0x3FAFA2DD#32
  | 116 => 0xBF91D908#32
  | 117 => 0x3F4814A3#32
  | 118 => 0x401FF581#32
  | 119 => 0x3F20D035#32
  | 120 => 0x40078E3F#32
  | 121 => 0xBF9CCB5D#32
  | 122 => 0x4065389E#32
  | 123 => 0x3F957A67#32
  | 124 => 0x3FB1181E#32
  | 125 => 0x3FA8E64E#32
  | 126 => 0x3F92601E#32
  | 127 => 0xBF0594D2#32
  | _ => 0#32

noncomputable abbrev lit0t0_823 (i : Nat) : BitVec 32 := match i % 128 with
  | 0 => 0x3FCCB9B6#32
  | 1 => 0x3FED4462#32
  | 2 => 0xBF1B5114#32
  | 3 => 0x3F863A4E#32
  | 4 => 0x403F0CA4#32
  | 5 => 0x3E1140FA#32
  | 6 => 0x4006DE4C#32
  | 7 => 0x3FB9CB2A#32
  | 8 => 0xBE1EA1A8#32
  | 9 => 0xBC5CD549#32
  | 10 => 0xBEE0796A#32
  | 11 => 0x3E301D6B#32
  | 12 => 0x3FB07CCE#32
  | 13 => 0xBF3E7B65#32
  | 14 => 0x3FC26F0A#32
  | 15 => 0x3E0E69FE#32
  | 16 => 0x406C2E49#32
  | 17 => 0x3FC246CB#32
  | 18 => 0x3E1BD170#32
  | 19 => 0x3FBF7E4C#32
  | 20 => 0xBEACEC10#32
  | 21 => 0xBE0ABBE5#32
  | 22 => 0xBDC1308F#32
  | 23 => 0x402DB7A4#32
  | 24 => 0x3F661152#32
  | 25 => 0x3F1A3CAC#32
  | 26 => 0x40050405#32
  | 27 => 0x3EE57BD2#32
  | 28 => 0x3DE9928E#32
  | 29 => 0x3EEE9B20#32
  | 30 => 0x40A76892#32
  | 31 => 0x3FEB8F14#32
  | 32 => 0x3E866E4C#32
  | 33 => 0x3F94818B#32
  | 34 => 0x3E9B37DF#32
  | 35 => 0x3FB9D075#32
  | 36 => 0xBF638F3A#32
  | 37 => 0x403CCC87#32
  | 38 => 0x3E833E90#32
  | 39 => 0xBD7B5C2D#32
  | 40 => 0xBF516551#32
  | 41 => 0x401CEDEC#32
  | 42 => 0x3F85E46A#32
  | 43 => 0x3E8F4FD7#32
  | 44 => 0xBE0A706D#32
  | 45 => 0x3E7AC414#32
  | 46 => 0xBF7D66E2#32
  | 47 => 0xBF20CA2E#32
  | 48 => 0xBEC8ED85#32
  | 49 => 0x3F6D3EEB#32
  | 50 => 0xBF521FCE#32
  | 51 => 0x408AEB59#32
  | 52 => 0x3F8C3B17#32
  | 53 => 0xBEE4903E#32
  | 54 => 0xBE6EAA81#32
  | 55 => 0x40558306#32
  | 56 => 0xBF10046C#32
  | 57 => 0x3F68B905#32
  | 58 => 0x40718B43#32
  | 59 => 0x3E531FBC#32
  | 60 => 0x3F356B53#32
  | 61 => 0x3F6D0D52#32
  | 62 => 0x407E39C4#32
  | 63 => 0xBE2E8CBB#32
  | 64 => 0x3FF4D872#32
  | 65 => 0xBEAF6B9E#32
  | 66 => 0xBF587227#32
  | 67 => 0x3EE09782#32
  | 68 => 0xBF93694C#32
  | 69 => 0x400E3894#32
  | 70 => 0x3F80C450#32
  | 71 => 0xBF6C75C2#32
  | 72 => 0x3EED8374#32
  | 73 => 0xBEAD7A02#32
  | 74 => 0xBF862675#32
  | 75 => 0xBDA8B142#32
  | 76 => 0xBF2A4C6A#32
  | 77 => 0xBF37EA64#32
  | 78 => 0xBF29BB0E#32
  | 79 => 0x3FE315D4#32
  | 80 => 0xBF4FF23C#32
  | 81 => 0x3E935B36#32
  | 82 => 0x3F101A18#32
  | 83 => 0x4018376F#32
  | 84 => 0x3FE26190#32
  | 85 => 0x3FA324A7#32
  | 86 => 0x3EC61615#32
  | 87 => 0x3FB59708#32
  | 88 => 0x4013B481#32
  | 89 => 0x4036D89E#32
  | 90 => 0x3DE1715D#32
  | 91 => 0x3FBEE484#32
  | 92 => 0x4028E32F#32
  | 93 => 0xBE144839#32
  | 94 => 0x400F8FA2#32
  | 95 => 0xBF52BA9C#32
  | 96 => 0x3FAC8A86#32
  | 97 => 0x3F6A7F6A#32
  | 98 => 0x4074F376#32
  | 99 => 0xBF684654#32
  | 100 => 0x3FB4E03E#32
  | 101 => 0xBF184631#32
  | 102 => 0x3F9F0B60#32
  | 103 => 0x3EE9DBB5#32
  | 104 => 0x403F720C#32
  | 105 => 0x400326F4#32
  | 106 => 0xBF193BC5#32
  | 107 => 0x3F5CB256#32
  | 108 => 0x3F9C621E#32
  | 109 => 0x3F966A14#32
  | 110 => 0x3F12FECC#32
  | 111 => 0x3FFD50E7#32
  | 112 => 0x3ECAA014#32
  | 113 => 0x3FA4EEB5#32
  | 114 => 0xBED8492E#32
  | 115 => 0x3C5FCF90#32
  | 116 => 0x40090ACF#32
  | 117 => 0xBE7C9F73#32
  | 118 => 0xBF1AAF62#32
  | 119 => 0xBBD18E19#32
  | 120 => 0xBF1169B6#32
  | 121 => 0xBEAFE161#32
  | 122 => 0xBEA77208#32
  | 123 => 0x3FAA512A#32
  | 124 => 0x3FECA547#32
  | 125 => 0x4097D7A3#32
  | 126 => 0x401EA2CC#32
  | 127 => 0xBEFE28F0#32
  | _ => 0#32

noncomputable abbrev lit0t0_824 (i : Nat) : BitVec 32 := match i % 128 with
  | 0 => 0x3F13549A#32
  | 1 => 0x40048C87#32
  | 2 => 0xBCA8E301#32
  | 3 => 0x3FD41A58#32
  | 4 => 0x3E4397A4#32
  | 5 => 0x3F09817D#32
  | 6 => 0x40CFC009#32
  | 7 => 0xBFB2A2B3#32
  | 8 => 0x3FF055AB#32
  | 9 => 0xBF9D432B#32
  | 10 => 0xBEE59C01#32
  | 11 => 0xBF9BDD1A#32
  | 12 => 0x3FA899F0#32
  | 13 => 0x3F1ED25A#32
  | 14 => 0x3FC7A431#32
  | 15 => 0x40269A58#32
  | 16 => 0x3FD7FD4A#32
  | 17 => 0xBEFC9B34#32
  | 18 => 0x3FA99EEC#32
  | 19 => 0x3F0EBE2C#32
  | 20 => 0x3BCAC649#32
  | 21 => 0xBFC5EBC0#32
  | 22 => 0x3FBA53BA#32
  | 23 => 0x40145039#32
  | 24 => 0xBEB85156#32
  | 25 => 0x3EE5187F#32
  | 26 => 0x3FC2FDFA#32
  | 27 => 0xBF051817#32
  | 28 => 0xBF63AD71#32
  | 29 => 0xBF7CF066#32
  | 30 => 0xBDC13A2C#32
  | 31 => 0x3FA8185C#32
  | 32 => 0xBEA4134F#32
  | 33 => 0xBF92D782#32
  | 34 => 0x3F023C3C#32
  | 35 => 0xBF7AA6F9#32
  | 36 => 0xBF3B5161#32
  | 37 => 0x3F513868#32
  | 38 => 0x3F0BDF7D#32
  | 39 => 0xBE833BC4#32
  | 40 => 0xBF8B3FF3#32
  | 41 => 0xBE73EADA#32
  | 42 => 0xBE0AB354#32
  | 43 => 0x3DB42A66#32
  | 44 => 0x3EA02A76#32
  | 45 => 0x3EF84D3C#32
  | 46 => 0x3F066B8C#32
  | 47 => 0xBF311628#32
  | 48 => 0x3F4442DE#32
  | 49 => 0x409BB0FA#32
  | 50 => 0xBF1414E2#32
  | 51 => 0x403AED9B#32
  | 52 => 0xBF08C251#32
  | 53 => 0x402E58BF#32
  | 54 => 0x406C0878#32
  | 55 => 0x40524B9C#32
  | 56 => 0x40090B09#32
  | 57 => 0x3FD63CA2#32
  | 58 => 0x3F76BC44#32
  | 59 => 0x4058921A#32
  | 60 => 0x3DC18EB9#32
  | 61 => 0x4072A3FF#32
  | 62 => 0xBF8279C1#32
  | 63 => 0x3F8275A5#32
  | 64 => 0x3F68D4E0#32
  | 65 => 0x3C205FC8#32
  | 66 => 0xBECB4ECE#32
  | 67 => 0x4088E0E0#32
  | 68 => 0xBF82CCF8#32
  | 69 => 0x409C3E17#32
  | 70 => 0x40099B2F#32
  | 71 => 0x3F399C9C#32
  | 72 => 0xBF01FCCE#32
  | 73 => 0x3F8BE321#32
  | 74 => 0x40119B76#32
  | 75 => 0x3FADE60A#32
  | 76 => 0xBF9EDFA0#32
  | 77 => 0x3FB6F71D#32
  | 78 => 0x40C08B38#32
  | 79 => 0x3FAEB8A5#32
  | 80 => 0x3FB06FA8#32
  | 81 => 0xBF2FB4C1#32
  | 82 => 0x3FD572FD#32
  | 83 => 0xBF53A6CA#32
  | 84 => 0x40533A68#32
  | 85 => 0x3F801BA7#32
  | 86 => 0x3FD36F92#32
  | 87 => 0x3F260E56#32
  | 88 => 0xBDDCB1B6#32
  | 89 => 0xBF2145B0#32
  | 90 => 0x3F515CA4#32
  | 91 => 0x406BF91B#32
  | 92 => 0x3E5C13BA#32
  | 93 => 0x3F25C275#32
  | 94 => 0x402325A5#32
  | 95 => 0x3F0AB5C8#32
  | 96 => 0x3F8BA8AC#32
  | 97 => 0x3EC3CE2D#32
  | 98 => 0x3F393373#32
  | 99 => 0xBF316C3A#32
  | 100 => 0xBDB9C72D#32
  | 101 => 0x3DC100F5#32
  | 102 => 0x400D6E4A#32
  | 103 => 0xBD696217#32
  | 104 => 0x40052A92#32
  | 105 => 0xBEBF3DC4#32
  | 106 => 0x3FF7C470#32
  | 107 => 0x400776D1#32
  | 108 => 0x3FD40FE9#32
  | 109 => 0xBE896425#32
  | 110 => 0xBF500968#32
  | 111 => 0xBDB8BEF2#32
  | 112 => 0x3EF66BA6#32
  | 113 => 0x3FA749E4#32
  | 114 => 0x3DAD47B5#32
  | 115 => 0xBEE024B2#32
  | 116 => 0x4005629D#32
  | 117 => 0x3F977F58#32
  | 118 => 0x3FED7713#32
  | 119 => 0xBD8AD617#32
  | 120 => 0x3FC51ED7#32
  | 121 => 0xBFA0A6D2#32
  | 122 => 0x3F0E02A8#32
  | 123 => 0x3F70F1B2#32
  | 124 => 0xBF0C7C3E#32
  | 125 => 0x3F937370#32
  | 126 => 0x3EEF6D49#32
  | 127 => 0xBF2800AF#32
  | _ => 0#32

noncomputable abbrev lit0t0_825 (i : Nat) : BitVec 32 := match i % 128 with
  | 0 => 0xBEE9B06D#32
  | 1 => 0x3F5A4D52#32
  | 2 => 0x3F3468F4#32
  | 3 => 0xBFA5327F#32
  | 4 => 0x3FB151BC#32
  | 5 => 0x3FB37641#32
  | 6 => 0xBF59A869#32
  | 7 => 0x3D98B9AE#32
  | 8 => 0x3EF2AC6F#32
  | 9 => 0x3EDE3471#32
  | 10 => 0xBE3A6AD6#32
  | 11 => 0xBEB935AC#32
  | 12 => 0x3FAF072B#32
  | 13 => 0x3F7710CA#32
  | 14 => 0x3F478189#32
  | 15 => 0xBF4D5787#32
  | 16 => 0x3DBEB2F2#32
  | 17 => 0x3FCB4295#32
  | 18 => 0x3F40333B#32
  | 19 => 0x3F308DCA#32
  | 20 => 0x403956A7#32
  | 21 => 0x3E8871C6#32
  | 22 => 0x3EF6BD8D#32
  | 23 => 0x3ED4545C#32
  | 24 => 0x3F609141#32
  | 25 => 0xBE62DA3B#32
  | 26 => 0x3FB8A6AD#32
  | 27 => 0x3FC8DEF5#32
  | 28 => 0x3FA58D57#32
  | 29 => 0xBED86557#32
  | 30 => 0x3EE60F54#32
  | 31 => 0x3F2D08C7#32
  | 32 => 0x3FD7AD7E#32
  | 33 => 0x403342F5#32
  | 34 => 0x3E8BE4D2#32
  | 35 => 0x3FF7B076#32
  | 36 => 0xBF101934#32
  | 37 => 0x4043DC8A#32
  | 38 => 0x3F42AA5A#32
  | 39 => 0x3F878537#32
  | 40 => 0x3F2683D4#32
  | 41 => 0xBF9A3BE2#32
  | 42 => 0x3F1495D4#32
  | 43 => 0x3FC31BEA#32
  | 44 => 0x3FA34B12#32
  | 45 => 0x3E359B97#32
  | 46 => 0x3D42008D#32
  | 47 => 0x3F6B04A0#32
  | 48 => 0x3F8BE1CB#32
  | 49 => 0xBF231BA0#32
  | 50 => 0x401CC528#32
  | 51 => 0xBF282C84#32
  | 52 => 0xBF9A5F39#32
  | 53 => 0x3D118F57#32
  | 54 => 0x3FA23B8D#32
  | 55 => 0xBE8754F1#32
  | 56 => 0x3F62248D#32
  | 57 => 0x40312AEC#32
  | 58 => 0x3F1FC919#32
  | 59 => 0x3EF44C02#32
  | 60 => 0xBF4E2BCB#32
  | 61 => 0x3EFE404C#32
  | 62 => 0x3F3680EF#32
  | 63 => 0xBEE1E529#32
  | 64 => 0xBF0C7E8A#32
  | 65 => 0x40404D47#32
  | 66 => 0x3F7315FD#32
  | 67 => 0x3E3D2406#32
  | 68 => 0x3FE12CE0#32
  | 69 => 0x4080D431#32
  | 70 => 0x3FAD07E6#32
  | 71 => 0xBFAF1B1B#32
  | 72 => 0xBEEA8AF4#32
  | 73 => 0x3EB0DB2F#32
  | 74 => 0xBD189FED#32
  | 75 => 0x3FA58B57#32
  | 76 => 0x3FFBDAF7#32
  | 77 => 0xBE9F502F#32
  | 78 => 0xBE16DC7A#32
  | 79 => 0x3F94F224#32
  | 80 => 0xBF51B81A#32
  | 81 => 0x40263A63#32
  | 82 => 0xBEAFF589#32
  | 83 => 0x3F642E77#32
  | 84 => 0x3F2ADAA0#32
  | 85 => 0x3FD116B7#32
  | 86 => 0x401D2AA3#32
  | 87 => 0xBE6EE101#32
  | 88 => 0xBE49FD47#32
  | 89 => 0x402C5F65#32
  | 90 => 0x3F170A64#32
  | 91 => 0xBEE33E73#32
  | 92 => 0x40B1F115#32
  | 93 => 0x3F139C9A#32
  | 94 => 0x40615377#32
  | 95 => 0x400C227F#32
  | 96 => 0x3FFBDA21#32
  | 97 => 0xBEDF402E#32
  | 98 => 0xBF30DE02#32
  | 99 => 0x3FA1645C#32
  | 100 => 0xBF2A0CBB#32
  | 101 => 0x402DBB7C#32
  | 102 => 0x3F2B0661#32
  | 103 => 0xBF13E41A#32
  | 104 => 0x4014B830#32
  | 105 => 0x3EB31FBA#32
  | 106 => 0x3FFE2CC4#32
  | 107 => 0x3EBB40C3#32
  | 108 => 0xBED2D53D#32
  | 109 => 0x3F00C136#32
  | 110 => 0xBF449DA6#32
  | 111 => 0x3E9ADEEC#32
  | 112 => 0xBE04DB91#32
  | 113 => 0x3D898DC8#32
  | 114 => 0xBC9FF9C1#32
  | 115 => 0x3E6E2A69#32
  | 116 => 0x3F795284#32
  | 117 => 0x402FC75C#32
  | 118 => 0xBF59EC80#32
  | 119 => 0x403F780F#32
  | 120 => 0xBE9D6E42#32
  | 121 => 0xBE524E78#32
  | 122 => 0x40AAACBC#32
  | 123 => 0x3F0107E0#32
  | 124 => 0xBF180D9E#32
  | 125 => 0x3D11C685#32
  | 126 => 0x3F35137D#32
  | 127 => 0xBED2D9E1#32
  | _ => 0#32

noncomputable abbrev lit0t0_826 (i : Nat) : BitVec 32 := match i % 128 with
  | 0 => 0x3EF785CC#32
  | 1 => 0x402F3602#32
  | 2 => 0x3DD56152#32
  | 3 => 0x3ED896B5#32
  | 4 => 0x3EDFB56C#32
  | 5 => 0x402ABC3A#32
  | 6 => 0x3F7316E8#32
  | 7 => 0xBE84A959#32
  | 8 => 0x3FA86997#32
  | 9 => 0x3E9FEE37#32
  | 10 => 0xBFE53EC2#32
  | 11 => 0x3E09981E#32
  | 12 => 0xBEBE497D#32
  | 13 => 0x3E361C51#32
  | 14 => 0x3E1C92DD#32
  | 15 => 0x3B1464FB#32
  | 16 => 0x3FDB1E0D#32
  | 17 => 0x4029E890#32
  | 18 => 0xBF1F2684#32
  | 19 => 0xBEF8DD4C#32
  | 20 => 0x3E0DCDC9#32
  | 21 => 0x3EF496A0#32
  | 22 => 0x3FB01A6A#32
  | 23 => 0x3F875F3C#32
  | 24 => 0x3FA5E991#32
  | 25 => 0x405C9AD6#32
  | 26 => 0xBF8491FD#32
  | 27 => 0x3FFAB5F4#32
  | 28 => 0x402EF9F9#32
  | 29 => 0x3FF190BC#32
  | 30 => 0xBEDAF0E6#32
  | 31 => 0x3FB7F01F#32
  | 32 => 0x3FFCDA57#32
  | 33 => 0x3FE9B6EC#32
  | 34 => 0xBEB93721#32
  | 35 => 0xBF631465#32
  | 36 => 0x3F2E3F82#32
  | 37 => 0x3FC18331#32
  | 38 => 0x3F642A46#32
  | 39 => 0x3C8B0939#32
  | 40 => 0x3F0BA987#32
  | 41 => 0x3FA4015B#32
  | 42 => 0xBDBBE355#32
  | 43 => 0xBED888DA#32
  | 44 => 0xBEFB419E#32
  | 45 => 0x40603D68#32
  | 46 => 0xBF4DC7DF#32
  | 47 => 0xBE64F3AB#32
  | 48 => 0x3F4717A4#32
  | 49 => 0x3EACAD74#32
  | 50 => 0x3FA28ED3#32
  | 51 => 0x3C882B1E#32
  | 52 => 0x3FF5217E#32
  | 53 => 0x3F4E58D4#32
  | 54 => 0xBED8182A#32
  | 55 => 0x3F8A20FA#32
  | 56 => 0x4018BB1D#32
  | 57 => 0xBE984557#32
  | 58 => 0x4024E4E5#32
  | 59 => 0x3FDCFF14#32
  | 60 => 0x3E2ACE37#32
  | 61 => 0x3FC4A4B7#32
  | 62 => 0xBF18905F#32
  | 63 => 0xBF2E53F1#32
  | 64 => 0xBF82938A#32
  | 65 => 0x3E3AB76B#32
  | 66 => 0x3E052A6D#32
  | 67 => 0xBECC5CBB#32
  | 68 => 0xBED7FC9F#32
  | 69 => 0x3F336E2B#32
  | 70 => 0x3F7F6720#32
  | 71 => 0x3D3F86DB#32
  | 72 => 0xBF9B21AB#32
  | 73 => 0xBF8420EA#32
  | 74 => 0x402EF790#32
  | 75 => 0x3FABC36E#32
  | 76 => 0x3E118BF4#32
  | 77 => 0xBFD7AFAA#32
  | 78 => 0xBEDF98E6#32
  | 79 => 0xBD2338C9#32
  | 80 => 0x3E721D63#32
  | 81 => 0x3F305A0F#32
  | 82 => 0x3FFBA811#32
  | 83 => 0xBEE14EA4#32
  | 84 => 0xBF4FC60A#32
  | 85 => 0xBDF03172#32
  | 86 => 0x3F839404#32
  | 87 => 0xBFB8C791#32
  | 88 => 0x3F255F47#32
  | 89 => 0xBF065E48#32
  | 90 => 0x403EB517#32
  | 91 => 0xBF2453DA#32
  | 92 => 0xBF6F571D#32
  | 93 => 0x3F03B417#32
  | 94 => 0xBF103C50#32
  | 95 => 0x4054010F#32
  | 96 => 0x402AF653#32
  | 97 => 0xBF863514#32
  | 98 => 0x3F9A91C4#32
  | 99 => 0x3F82C779#32
  | 100 => 0xBF1CEC13#32
  | 101 => 0x404A542D#32
  | 102 => 0xBF4E34F4#32
  | 103 => 0x3CC51D42#32
  | 104 => 0x3D9DF9E8#32
  | 105 => 0xBFBC44BF#32
  | 106 => 0x3F3EF0FF#32
  | 107 => 0x3F4B6215#32
  | 108 => 0x3FC66B84#32
  | 109 => 0x3FC96EF3#32
  | 110 => 0xBF80F727#32
  | 111 => 0x405374D4#32
  | 112 => 0xBE7324CE#32
  | 113 => 0x3F05312D#32
  | 114 => 0x4010CCDD#32
  | 115 => 0x3F97D4BA#32
  | 116 => 0xBF36D483#32
  | 117 => 0x3E014FC1#32
  | 118 => 0xBDC5ADDC#32
  | 119 => 0xBF212E5A#32
  | 120 => 0x3FBB1CD2#32
  | 121 => 0xBF23215F#32
  | 122 => 0xBF5734B2#32
  | 123 => 0x401AB7B7#32
  | 124 => 0x3F85B33C#32
  | 125 => 0x400A68FC#32
  | 126 => 0x3F91AF9A#32
  | 127 => 0xBEA16732#32
  | _ => 0#32

noncomputable abbrev lit0t0_827 (i : Nat) : BitVec 32 := match i % 128 with
  | 0 => 0x3F15F085#32
  | 1 => 0xBFA08F50#32
  | 2 => 0xBEC6E5A6#32
  | 3 => 0x3FFADFE1#32
  | 4 => 0xBF2B8D31#32
  | 5 => 0x4085E29C#32
  | 6 => 0xBF482876#32
  | 7 => 0x3DB75B4F#32
  | 8 => 0x3FC178F7#32
  | 9 => 0xBFDDF32F#32
  | 10 => 0x3E7860A9#32
  | 11 => 0x4046084C#32
  | 12 => 0xBDFB45BE#32
  | 13 => 0xBF3B01C9#32
  | 14 => 0x40713DF7#32
  | 15 => 0x3E8FF18B#32
  | 16 => 0xBF0972A5#32
  | 17 => 0x3F32A451#32
  | 18 => 0xBEFD8A6F#32
  | 19 => 0x406C19D8#32
  | 20 => 0x3E0B151B#32
  | 21 => 0x3F31B654#32
  | 22 => 0x40CC79F6#32
  | 23 => 0xBF15E963#32
  | 24 => 0xBF0C4A27#32
  | 25 => 0xBEB0A8A7#32
  | 26 => 0x3EBB32CA#32
  | 27 => 0x3F67C4DD#32
  | 28 => 0xBF0A6D76#32
  | 29 => 0x401F237B#32
  | 30 => 0xBDA1336E#32
  | 31 => 0xBE419AFD#32
  | 32 => 0xBF97FE26#32
  | 33 => 0xBF206A9E#32
  | 34 => 0xBD4F1BB0#32
  | 35 => 0xBF8AEBC0#32
  | 36 => 0x3F5B10A9#32
  | 37 => 0x3B68CEBC#32
  | 38 => 0xBE86887E#32
  | 39 => 0xBD5A0FB1#32
  | 40 => 0x3F8A4571#32
  | 41 => 0x3F4DF62B#32
  | 42 => 0x3F257CB7#32
  | 43 => 0x40EAF025#32
  | 44 => 0xBFB37CC9#32
  | 45 => 0x3E98236F#32
  | 46 => 0xBF3CC40D#32
  | 47 => 0xBFAD464B#32
  | 48 => 0xBDA76AFA#32
  | 49 => 0x3FDE85FA#32
  | 50 => 0x3F2B71F3#32
  | 51 => 0x3F0EDCA2#32
  | 52 => 0xBD2D536E#32
  | 53 => 0xBFA32389#32
  | 54 => 0x3F1E6CB9#32
  | 55 => 0x409ECF32#32
  | 56 => 0xBE8454D0#32
  | 57 => 0x3F9E6B82#32
  | 58 => 0xBED934C1#32
  | 59 => 0xBEE1ECDF#32
  | 60 => 0xBDE258C6#32
  | 61 => 0x3FDA0B0A#32
  | 62 => 0x3E90E7BE#32
  | 63 => 0x3FAAF6E7#32
  | 64 => 0xBE1A436D#32
  | 65 => 0x3FDBF774#32
  | 66 => 0xBF589B0E#32
  | 67 => 0x3F8910C2#32
  | 68 => 0xBECF360E#32
  | 69 => 0x3EBBF310#32
  | 70 => 0x3FC1DDDD#32
  | 71 => 0x3EA59D32#32
  | 72 => 0xBF213F59#32
  | 73 => 0x3FB71493#32
  | 74 => 0xBF3EBB9F#32
  | 75 => 0xBDC0FFEF#32
  | 76 => 0xBE465C63#32
  | 77 => 0x3FD7614B#32
  | 78 => 0x4063A7C1#32
  | 79 => 0x3EB7CCF7#32
  | 80 => 0xC0013FFB#32
  | 81 => 0x3EFC509C#32
  | 82 => 0x4064930A#32
  | 83 => 0x3F1379FA#32
  | 84 => 0x3F71282A#32
  | 85 => 0x3FB4DE6B#32
  | 86 => 0xBF476026#32
  | 87 => 0xBF7622EB#32
  | 88 => 0xBF055714#32
  | 89 => 0x3F899055#32
  | 90 => 0xBF46A454#32
  | 91 => 0x401D5553#32
  | 92 => 0x3FDEF00F#32
  | 93 => 0x403CA6DC#32
  | 94 => 0x3F98A725#32
  | 95 => 0x3FE17FCD#32
  | 96 => 0x3F4E0F31#32
  | 97 => 0x3F3A1E54#32
  | 98 => 0x3F0E0880#32
  | 99 => 0x3F24EE98#32
  | 100 => 0x406FFFF4#32
  | 101 => 0xBF180E92#32
  | 102 => 0x3EE9D62E#32
  | 103 => 0x3DA7EC1D#32
  | 104 => 0x40028583#32
  | 105 => 0x401A3B86#32
  | 106 => 0xBE9EBB97#32
  | 107 => 0x3F312661#32
  | 108 => 0x3EC43DEE#32
  | 109 => 0x3F8CD902#32
  | 110 => 0x3F850B80#32
  | 111 => 0x3E43DCC6#32
  | 112 => 0xBF5ECA1E#32
  | 113 => 0xBF99D080#32
  | 114 => 0x3F2D913F#32
  | 115 => 0xBF81D3BA#32
  | 116 => 0xBF096ADD#32
  | 117 => 0x3D574FA9#32
  | 118 => 0x3EF16796#32
  | 119 => 0x3F2B8618#32
  | 120 => 0xBE47403F#32
  | 121 => 0x3FEB4119#32
  | 122 => 0x403AA0E6#32
  | 123 => 0x3F025B1A#32
  | 124 => 0x3F602EDF#32
  | 125 => 0x3F090005#32
  | 126 => 0x3F33CE55#32
  | 127 => 0xBF3CC7CC#32
  | _ => 0#32

noncomputable abbrev lit0t0_828 (i : Nat) : BitVec 32 := match i % 128 with
  | 0 => 0x4014ADB7#32
  | 1 => 0x3F8E6498#32
  | 2 => 0xBED25E36#32
  | 3 => 0xBF681A82#32
  | 4 => 0xBF84EACA#32
  | 5 => 0xBF17FF57#32
  | 6 => 0x3F0030A6#32
  | 7 => 0xBFBF4258#32
  | 8 => 0x3FDBFF52#32
  | 9 => 0xBE0684C5#32
  | 10 => 0x3EB31079#32
  | 11 => 0x3FB15B5C#32
  | 12 => 0xBE22F6EB#32
  | 13 => 0xBFC49FB9#32
  | 14 => 0xBF5182C6#32
  | 15 => 0xBE29C22B#32
  | 16 => 0xBD7017E1#32
  | 17 => 0xBE74E664#32
  | 18 => 0x3F8319EC#32
  | 19 => 0x406333F6#32
  | 20 => 0x3F497015#32
  | 21 => 0xBF00E47D#32
  | 22 => 0x3E146496#32
  | 23 => 0xBF570321#32
  | 24 => 0xBF1DEF70#32
  | 25 => 0x3F94D7DD#32
  | 26 => 0x3E5DBA20#32
  | 27 => 0xBF997BC5#32
  | 28 => 0x3F82F5A8#32
  | 29 => 0xBEA553F9#32
  | 30 => 0x3F770031#32
  | 31 => 0xBF705370#32
  | 32 => 0xBE17FDE2#32
  | 33 => 0x3F1F367A#32
  | 34 => 0x3FB2C8A3#32
  | 35 => 0x3FA1EEE9#32
  | 36 => 0xBCBC309F#32
  | 37 => 0x3E9D1CE2#32
  | 38 => 0xBF26E359#32
  | 39 => 0xBCA23D01#32
  | 40 => 0x3E936F27#32
  | 41 => 0x40164FBD#32
  | 42 => 0x3FA6E18A#32
  | 43 => 0xBF6D779C#32
  | 44 => 0x3F208F17#32
  | 45 => 0xBF1FCBE0#32
  | 46 => 0x3F571E4A#32
  | 47 => 0xBE898EF6#32
  | 48 => 0x3E9EB47F#32
  | 49 => 0xBEE731B2#32
  | 50 => 0x3FA34884#32
  | 51 => 0x400F95F0#32
  | 52 => 0x3E9D12FF#32
  | 53 => 0x3EFEE7E3#32
  | 54 => 0x4053EFFF#32
  | 55 => 0x3F887FDE#32
  | 56 => 0x3FF12B56#32
  | 57 => 0x3ED95CDF#32
  | 58 => 0x3FA48367#32
  | 59 => 0xBF2633F2#32
  | 60 => 0xBD222251#32
  | 61 => 0x3F905684#32
  | 62 => 0x3F551B89#32
  | 63 => 0x3F81FFB0#32
  | 64 => 0x3F5C432B#32
  | 65 => 0xBF472016#32
  | 66 => 0xBF7028AA#32
  | 67 => 0x3F7BDC41#32
  | 68 => 0xBF9DA14A#32
  | 69 => 0xBF86BD6F#32
  | 70 => 0x3FA6DD8A#32
  | 71 => 0xBEC3998C#32
  | 72 => 0x3CF426D9#32
  | 73 => 0x3FF368D4#32
  | 74 => 0x3EA7746D#32
  | 75 => 0xBF5D99F0#32
  | 76 => 0x3F66BCF4#32
  | 77 => 0x40935B31#32
  | 78 => 0xBE23DA0F#32
  | 79 => 0x40254779#32
  | 80 => 0x40454786#32
  | 81 => 0x3D41EF3F#32
  | 82 => 0x3E280CD2#32
  | 83 => 0x3FFD8A85#32
  | 84 => 0x3FF3FA96#32
  | 85 => 0x3E6D01C4#32
  | 86 => 0x3FF84A77#32
  | 87 => 0x3F8C3AAA#32
  | 88 => 0xBF7108D6#32
  | 89 => 0xBD11F16C#32
  | 90 => 0x3FED19A0#32
  | 91 => 0xBF205A05#32
  | 92 => 0xBF9A5004#32
  | 93 => 0x3E8118A6#32
  | 94 => 0xBFCDE78D#32
  | 95 => 0x3FC34E53#32
  | 96 => 0x3F01FF4C#32
  | 97 => 0xBF570854#32
  | 98 => 0xBE95A4D0#32
  | 99 => 0xBF839DBE#32
  | 100 => 0xBEDA979E#32
  | 101 => 0x407C65EC#32
  | 102 => 0x3EB9EE4C#32
  | 103 => 0x4002B0B3#32
  | 104 => 0x3DA3346A#32
  | 105 => 0xBF53DCAA#32
  | 106 => 0x3FDDAAC0#32
  | 107 => 0x3F761794#32
  | 108 => 0x3FC3A03D#32
  | 109 => 0x3EB862F5#32
  | 110 => 0xBF571820#32
  | 111 => 0x3FD99AA8#32
  | 112 => 0xBE1E2E8A#32
  | 113 => 0xBF60B5CA#32
  | 114 => 0xBF7058E9#32
  | 115 => 0x3FC97144#32
  | 116 => 0x3F32B591#32
  | 117 => 0x3F913345#32
  | 118 => 0x3F98B2DC#32
  | 119 => 0xBE1E73CC#32
  | 120 => 0x3D3595FC#32
  | 121 => 0x3CDA8920#32
  | 122 => 0x3FBA2D2C#32
  | 123 => 0x3FAA1E51#32
  | 124 => 0x3D3C337B#32
  | 125 => 0xBE624948#32
  | 126 => 0xBF5B34CA#32
  | 127 => 0x4014E5C3#32
  | _ => 0#32

noncomputable abbrev lit0t0_829 (i : Nat) : BitVec 32 := match i % 128 with
  | 0 => 0x3ED39F0F#32
  | 1 => 0x3F0C8CE7#32
  | 2 => 0xBF4159E1#32
  | 3 => 0x3EA10B95#32
  | 4 => 0xBF525FA7#32
  | 5 => 0xBF939317#32
  | 6 => 0xBF7C0602#32
  | 7 => 0x3E8188BF#32
  | 8 => 0x40150BBD#32
  | 9 => 0x3FD34318#32
  | 10 => 0xBECF25D0#32
  | 11 => 0xBF27139D#32
  | 12 => 0x3D9EC0BC#32
  | 13 => 0x3F17BC06#32
  | 14 => 0x3F997ED9#32
  | 15 => 0xBF1A8C28#32
  | 16 => 0x407E142E#32
  | 17 => 0x3D31A7F2#32
  | 18 => 0x3F7B0E40#32
  | 19 => 0xBF205B23#32
  | 20 => 0x403904BB#32
  | 21 => 0xBF1AA81E#32
  | 22 => 0xBF592234#32
  | 23 => 0x3FCBFC5A#32
  | 24 => 0x3FBCA09D#32
  | 25 => 0xBF03FF68#32
  | 26 => 0xBE99A1E8#32
  | 27 => 0x3F3D8F71#32
  | 28 => 0x3EC4916B#32
  | 29 => 0xBF9EE236#32
  | 30 => 0xBF0E5958#32
  | 31 => 0x3F836482#32
  | 32 => 0x3F33ABA1#32
  | 33 => 0x3FDCD3AA#32
  | 34 => 0x3F198DD3#32
  | 35 => 0xBEE9C752#32
  | 36 => 0xBED7EF72#32
  | 37 => 0xBE88AFA9#32
  | 38 => 0x3F688AF5#32
  | 39 => 0x3F375C85#32
  | 40 => 0xBF84EDD2#32
  | 41 => 0xBF03F3AE#32
  | 42 => 0x3F198785#32
  | 43 => 0xBF97001B#32
  | 44 => 0x3FDAD1F8#32
  | 45 => 0xBED2BAE0#32
  | 46 => 0xBEA86EC7#32
  | 47 => 0xBE210AD5#32
  | 48 => 0x4020394B#32
  | 49 => 0x3E9F1DBB#32
  | 50 => 0x406AD747#32
  | 51 => 0x3E9ADCA1#32
  | 52 => 0xBE44546E#32
  | 53 => 0x3FFCB30D#32
  | 54 => 0xBF1F75D3#32
  | 55 => 0x3F79D71A#32
  | 56 => 0x3E90346E#32
  | 57 => 0x3EADDB98#32
  | 58 => 0x3F106F63#32
  | 59 => 0x4030468F#32
  | 60 => 0x3F5331BC#32
  | 61 => 0xBF262830#32
  | 62 => 0x3FAD46A8#32
  | 63 => 0x401246F3#32
  | 64 => 0x3FB6972C#32
  | 65 => 0x3F5446CA#32
  | 66 => 0x3F6B3BDA#32
  | 67 => 0x3FB703AD#32
  | 68 => 0xBF556CE4#32
  | 69 => 0x4020DDB6#32
  | 70 => 0x3EA7DD42#32
  | 71 => 0x3EE079DE#32
  | 72 => 0x3F85CDD8#32
  | 73 => 0xBF950925#32
  | 74 => 0x3CEEC6C1#32
  | 75 => 0x404C14C6#32
  | 76 => 0x3F2C6746#32
  | 77 => 0xBEE3FB9E#32
  | 78 => 0x3D842468#32
  | 79 => 0xBEF774B6#32
  | 80 => 0x3FF946C1#32
  | 81 => 0x40A72A2E#32
  | 82 => 0xBEB984CE#32
  | 83 => 0xBF474404#32
  | 84 => 0x3F27084A#32
  | 85 => 0xBD9A6B99#32
  | 86 => 0x3F88AC91#32
  | 87 => 0x3F3470D6#32
  | 88 => 0xBF90A08E#32
  | 89 => 0x3DD69676#32
  | 90 => 0x3F7A68CE#32
  | 91 => 0x40276598#32
  | 92 => 0x3FCA3F7F#32
  | 93 => 0x3F125142#32
  | 94 => 0x3EEE4F34#32
  | 95 => 0xBE5EE235#32
  | 96 => 0xBECC6379#32
  | 97 => 0x3DC69052#32
  | 98 => 0xBF56C439#32
  | 99 => 0xBF9BF9CC#32
  | 100 => 0x3F807926#32
  | 101 => 0xBEAD58AA#32
  | 102 => 0x3E8C12C1#32
  | 103 => 0x3FBB96A7#32
  | 104 => 0x4025E7E9#32
  | 105 => 0xBE8E20E3#32
  | 106 => 0x3FF0D56E#32
  | 107 => 0xBF5B2247#32
  | 108 => 0xBF149B58#32
  | 109 => 0x3F4D007A#32
  | 110 => 0xBF520CBC#32
  | 111 => 0x3F7D2DF4#32
  | 112 => 0x3EC389B9#32
  | 113 => 0xBF8B5B1C#32
  | 114 => 0x3F58427A#32
  | 115 => 0xBE5F2CFB#32
  | 116 => 0xBF9AB791#32
  | 117 => 0x3F2BC7EC#32
  | 118 => 0xBF8FFE78#32
  | 119 => 0xBF6450E2#32
  | 120 => 0xBF8067EA#32
  | 121 => 0x3EB3BE53#32
  | 122 => 0x3FEBACD9#32
  | 123 => 0x3EEBC84A#32
  | 124 => 0x3F2F3E76#32
  | 125 => 0x40275A38#32
  | 126 => 0x3F576D46#32
  | 127 => 0x3F85958B#32
  | _ => 0#32

noncomputable abbrev lit0t0_830 (i : Nat) : BitVec 32 := match i % 128 with
  | 0 => 0x3F960C14#32
  | 1 => 0xBF8CB4F3#32
  | 2 => 0x3F906E30#32
  | 3 => 0xBDDD17C6#32
  | 4 => 0x3F96D4FC#32
  | 5 => 0x3FECAEC0#32
  | 6 => 0x3F920DE4#32
  | 7 => 0x3F4675AF#32
  | 8 => 0xBF5D333A#32
  | 9 => 0x40129946#32
  | 10 => 0xBBE67FF9#32
  | 11 => 0xBEA5F334#32
  | 12 => 0x4008597C#32
  | 13 => 0xBF7C1F2B#32
  | 14 => 0x40478889#32
  | 15 => 0x3F5B062E#32
  | 16 => 0x3EF56AB3#32
  | 17 => 0x3E97071E#32
  | 18 => 0xBF09A0EB#32
  | 19 => 0xBF623CC2#32
  | 20 => 0x3F243891#32
  | 21 => 0xBDF1E6DF#32
  | 22 => 0xBE9E4296#32
  | 23 => 0x3F31FD2E#32
  | 24 => 0xBFCBBE16#32
  | 25 => 0xBE934583#32
  | 26 => 0x3CFBD1C1#32
  | 27 => 0x400CF466#32
  | 28 => 0x408C0A8B#32
  | 29 => 0xBF41DF5E#32
  | 30 => 0x3FBA7C7F#32
  | 31 => 0xBF63FA5C#32
  | 32 => 0xBF04F03F#32
  | 33 => 0x3F804A16#32
  | 34 => 0x3F2A0A3C#32
  | 35 => 0x3FBB4D55#32
  | 36 => 0xBEA304F5#32
  | 37 => 0x3EB11B83#32
  | 38 => 0xBCFE344A#32
  | 39 => 0x3FEDFC1B#32
  | 40 => 0x3FA0DCB4#32
  | 41 => 0xBF3D9A07#32
  | 42 => 0x3F383712#32
  | 43 => 0x3F1E9D66#32
  | 44 => 0x3EBDA3C3#32
  | 45 => 0x3F46B710#32
  | 46 => 0x3F6336FF#32
  | 47 => 0x3E1C4627#32
  | 48 => 0xBEB522EB#32
  | 49 => 0xBF948A6F#32
  | 50 => 0x3F11D7A7#32
  | 51 => 0xBFA045C8#32
  | 52 => 0x3F6922FD#32
  | 53 => 0xBFBFD858#32
  | 54 => 0xBEDEFAB2#32
  | 55 => 0x3F48D890#32
  | 56 => 0x401B355F#32
  | 57 => 0xBF0AC489#32
  | 58 => 0xBED12DD5#32
  | 59 => 0x3F1B450C#32
  | 60 => 0x3EA4E97F#32
  | 61 => 0x3F878FBA#32
  | 62 => 0xBE50D878#32
  | 63 => 0x4011A537#32
  | 64 => 0x3F2241F3#32
  | 65 => 0x4004D8CE#32
  | 66 => 0x3FBE4962#32
  | 67 => 0x3ED00C7E#32
  | 68 => 0xBF89C9A1#32
  | 69 => 0xBD2A269D#32
  | 70 => 0xBF08EEBE#32
  | 71 => 0xBDCBCB29#32
  | 72 => 0x4089E77D#32
  | 73 => 0xBF67A861#32
  | 74 => 0xBD1DF115#32
  | 75 => 0xBEFEDA08#32
  | 76 => 0xBF189991#32
  | 77 => 0x3F0BD2C8#32
  | 78 => 0x3F34C823#32
  | 79 => 0x3F7811D8#32
  | 80 => 0xBF8C9326#32
  | 81 => 0x3E0C36C9#32
  | 82 => 0x3FE3D77A#32
  | 83 => 0x3FB9E813#32
  | 84 => 0xBF7D377C#32
  | 85 => 0x40753AC6#32
  | 86 => 0xBF269E06#32
  | 87 => 0xBDB4FD9B#32
  | 88 => 0x3F4D3608#32
  | 89 => 0xBDABB9E5#32
  | 90 => 0xBE4192DD#32
  | 91 => 0x3F3BEC3C#32
  | 92 => 0x404407C8#32
  | 93 => 0xBF57A267#32
  | 94 => 0x4007F510#32
  | 95 => 0x3F223E4B#32
  | 96 => 0x3F2BACE4#32
  | 97 => 0x3DE2BC65#32
  | 98 => 0x40165742#32
  | 99 => 0x3C2288B4#32
  | 100 => 0xBF5D4100#32
  | 101 => 0xBFAB6D22#32
  | 102 => 0x3FE4ED31#32
  | 103 => 0xBFA6965E#32
  | 104 => 0x3FE9F3A7#32
  | 105 => 0xBFA8C454#32
  | 106 => 0x3DB79A6F#32
  | 107 => 0x3E4D2083#32
  | 108 => 0x3FFD9992#32
  | 109 => 0xBF548004#32
  | 110 => 0x3FA8FA21#32
  | 111 => 0x40121B46#32
  | 112 => 0x3E84054C#32
  | 113 => 0x3F4B3816#32
  | 114 => 0x3F0586FB#32
  | 115 => 0xBE9538FC#32
  | 116 => 0x3EBB4F0B#32
  | 117 => 0x3F2EB8DD#32
  | 118 => 0x3EE6F19A#32
  | 119 => 0x3F2D712A#32
  | 120 => 0x3ED5DC2D#32
  | 121 => 0xBCFC303D#32
  | 122 => 0xBFB415C0#32
  | 123 => 0x3E446D86#32
  | 124 => 0xBC3AF3E6#32
  | 125 => 0x3FA874F0#32
  | 126 => 0xBD7201B1#32
  | 127 => 0x4009DEAA#32
  | _ => 0#32

noncomputable abbrev lit0t0_831 (i : Nat) : BitVec 32 := match i % 128 with
  | 0 => 0x3F3F009D#32
  | 1 => 0xBEB0E684#32
  | 2 => 0x3F32236D#32
  | 3 => 0xBEC5838B#32
  | 4 => 0xBF6E8FF4#32
  | 5 => 0x3FC46BF0#32
  | 6 => 0x3FE1F395#32
  | 7 => 0x3EC7025C#32
  | 8 => 0x3FCB5A34#32
  | 9 => 0x3F1B4FF4#32
  | 10 => 0x3F1AC951#32
  | 11 => 0x3FBB068F#32
  | 12 => 0x3F7ABB2D#32
  | 13 => 0xBF1CA0D6#32
  | 14 => 0xBF49DCC6#32
  | 15 => 0x3DEE07A8#32
  | 16 => 0x3E36FE68#32
  | 17 => 0xBF98EBE0#32
  | 18 => 0x3FFA7FBE#32
  | 19 => 0xBF33B3A7#32
  | 20 => 0x401F8E0F#32
  | 21 => 0x3F846405#32
  | 22 => 0x3E2E6A2F#32
  | 23 => 0x3FDCCA8C#32
  | 24 => 0xBECF6EC3#32
  | 25 => 0xBD51CC3D#32
  | 26 => 0xBF7CEC6E#32
  | 27 => 0xBF1D8182#32
  | 28 => 0x3F92D148#32
  | 29 => 0xBEDCBE5D#32
  | 30 => 0xBF6BC1C6#32
  | 31 => 0x4062E7FF#32
  | 32 => 0x3F2CE7E2#32
  | 33 => 0x3E8A8F0C#32
  | 34 => 0xC001DA9E#32
  | 35 => 0x3F80C4BE#32
  | 36 => 0x3F9C3915#32
  | 37 => 0xBF8CC62A#32
  | 38 => 0x3FAC7FF1#32
  | 39 => 0xBE9B3358#32
  | 40 => 0x3EBB63D4#32
  | 41 => 0x3FCED57B#32
  | 42 => 0xBF414E04#32
  | 43 => 0x3CE2B599#32
  | 44 => 0x3FDB44A9#32
  | 45 => 0x3F03ED94#32
  | 46 => 0xBECDDA3D#32
  | 47 => 0x3EB0940B#32
  | 48 => 0xBFA1AAFE#32
  | 49 => 0x3E2E5D5E#32
  | 50 => 0x3F9098B3#32
  | 51 => 0x3F8A2DEC#32
  | 52 => 0x3F4ECD8D#32
  | 53 => 0x3E901E6C#32
  | 54 => 0x405C8769#32
  | 55 => 0x404225B9#32
  | 56 => 0x3FE1B6E0#32
  | 57 => 0xBD43B0A2#32
  | 58 => 0x3F3FB7A1#32
  | 59 => 0x3E7510F5#32
  | 60 => 0x3FEB6926#32
  | 61 => 0x3F89ECB1#32
  | 62 => 0xBEF8D28B#32
  | 63 => 0xBE0EB835#32
  | 64 => 0xBF7054F8#32
  | 65 => 0x3FA89BC5#32
  | 66 => 0x40060010#32
  | 67 => 0x3F841AA1#32
  | 68 => 0xBF52F5D4#32
  | 69 => 0x3F15BEC0#32
  | 70 => 0x3FAAD693#32
  | 71 => 0xBD6D3F1C#32
  | 72 => 0xBFD3917F#32
  | 73 => 0xBE69E96C#32
  | 74 => 0x3EEFDB32#32
  | 75 => 0x40026AF2#32
  | 76 => 0x405292C3#32
  | 77 => 0x4062315A#32
  | 78 => 0xBF62EA8B#32
  | 79 => 0x3EBFDF75#32
  | 80 => 0x4059BB0E#32
  | 81 => 0x3E9F5EEA#32
  | 82 => 0x404854D9#32
  | 83 => 0x3E3C79FD#32
  | 84 => 0x402D257D#32
  | 85 => 0x3E04A43B#32
  | 86 => 0x3E3E011B#32
  | 87 => 0xBF31CEEB#32
  | 88 => 0x3F763DBD#32
  | 89 => 0x3DB87E9C#32
  | 90 => 0xBF87855E#32
  | 91 => 0x405B24A8#32
  | 92 => 0xBE694288#32
  | 93 => 0x406259EC#32
  | 94 => 0x40555C37#32
  | 95 => 0x3F873311#32
  | 96 => 0x400FB029#32
  | 97 => 0xBF926469#32
  | 98 => 0x3F9E194F#32
  | 99 => 0x3FB25762#32
  | 100 => 0xBEE68E72#32
  | 101 => 0x40323A3B#32
  | 102 => 0xBE4A773D#32
  | 103 => 0x3FF394AE#32
  | 104 => 0x3F4F9A00#32
  | 105 => 0x3EE0F434#32
  | 106 => 0xBE5AEB0E#32
  | 107 => 0x3F06B02A#32
  | 108 => 0x3FAEBD8A#32
  | 109 => 0xBE16FCDE#32
  | 110 => 0xBF838772#32
  | 111 => 0xBEF9EAB8#32
  | 112 => 0x3FADE080#32
  | 113 => 0xBE9A6D03#32
  | 114 => 0xBE1C9FCA#32
  | 115 => 0xBF1ED27E#32
  | 116 => 0x402032DE#32
  | 117 => 0x3F7B639C#32
  | 118 => 0x3F6904B6#32
  | 119 => 0x3F1D0728#32
  | 120 => 0x3F43C223#32
  | 121 => 0x3E987F50#32
  | 122 => 0xBF8D14D0#32
  | 123 => 0xBF7BE6D6#32
  | 124 => 0x3FABAA93#32
  | 125 => 0x3F5CC98A#32
  | 126 => 0x3F292B9D#32
  | 127 => 0xBF60AFDA#32
  | _ => 0#32

noncomputable abbrev lit0t0_832 (i : Nat) : BitVec 32 := match i % 128 with
  | 0 => 0x3FE0EBD2#32
  | 1 => 0xBED2D974#32
  | 2 => 0xBEC8BFD5#32
  | 3 => 0x3FDD271B#32
  | 4 => 0xBE946A5E#32
  | 5 => 0x3FF0AE28#32
  | 6 => 0xBF0EA76C#32
  | 7 => 0xBE6276E0#32
  | 8 => 0x40159F57#32
  | 9 => 0x401CFCC3#32
  | 10 => 0x3F994A8D#32
  | 11 => 0xBF3C1B76#32
  | 12 => 0xBFA257B0#32
  | 13 => 0x3FA2C99A#32
  | 14 => 0x3F25E8EE#32
  | 15 => 0xBF30ACB2#32
  | 16 => 0xBF8AED2E#32
  | 17 => 0xBE364FF5#32
  | 18 => 0x3F1B8A14#32
  | 19 => 0xBE0C6061#32
  | 20 => 0x3F3302B4#32
  | 21 => 0xBE90097B#32
  | 22 => 0xBF893C86#32
  | 23 => 0xBF8F26FB#32
  | 24 => 0x3EBAC482#32
  | 25 => 0x3E4210D5#32
  | 26 => 0x3FA432C8#32
  | 27 => 0x3E670172#32
  | 28 => 0x3F552A4C#32
  | 29 => 0x404A5F00#32
  | 30 => 0x3C713CEE#32
  | 31 => 0xBC147DB7#32
  | 32 => 0xBE851F68#32
  | 33 => 0x3F73B4CF#32
  | 34 => 0xBE05ECCE#32
  | 35 => 0x3E10A525#32
  | 36 => 0x3F83CBDE#32
  | 37 => 0xBF59AEED#32
  | 38 => 0x3FC78F83#32
  | 39 => 0x3F4F52CD#32
  | 40 => 0x3FB78F15#32
  | 41 => 0x400627A3#32
  | 42 => 0xBDF34F67#32
  | 43 => 0xBF52993B#32
  | 44 => 0x4031BA66#32
  | 45 => 0xBF8C9C17#32
  | 46 => 0xBF99A22E#32
  | 47 => 0xBFA1E527#32
  | 48 => 0x40AA4AB8#32
  | 49 => 0xBD2F8AC0#32
  | 50 => 0x3F2164AB#32
  | 51 => 0x3E4A2B99#32
  | 52 => 0x408E883C#32
  | 53 => 0xBE0C332C#32
  | 54 => 0xBE79CDC9#32
  | 55 => 0x3EF507CE#32
  | 56 => 0x3E9F4DE9#32
  | 57 => 0x40125ACB#32
  | 58 => 0x3EFC74CE#32
  | 59 => 0xBE844109#32
  | 60 => 0x3ECBDB75#32
  | 61 => 0xBF226129#32
  | 62 => 0xBF3E2BE1#32
  | 63 => 0x3FDBE32E#32
  | 64 => 0x3F679516#32
  | 65 => 0x40037CFF#32
  | 66 => 0x3F898B81#32
  | 67 => 0x3F9D7D88#32
  | 68 => 0xBC14DCD9#32
  | 69 => 0xBF2B88AD#32
  | 70 => 0x3F0B4DBE#32
  | 71 => 0x3F462A9F#32
  | 72 => 0xBE6F6610#32
  | 73 => 0x3F59D9A5#32
  | 74 => 0xBEAA4A32#32
  | 75 => 0x3D66FEAD#32
  | 76 => 0x3F2287DA#32
  | 77 => 0xBDCA6200#32
  | 78 => 0x3F773FA0#32
  | 79 => 0x40C49B59#32
  | 80 => 0xBF01BC88#32
  | 81 => 0xBE55A7DC#32
  | 82 => 0x3FA7DACD#32
  | 83 => 0xBEE947CD#32
  | 84 => 0x3EBDFFB7#32
  | 85 => 0xBCA7534B#32
  | 86 => 0x3E69F0E3#32
  | 87 => 0x3FD8F4DF#32
  | 88 => 0x406A595E#32
  | 89 => 0xBDCE3F9E#32
  | 90 => 0x3E857A42#32
  | 91 => 0xBED83210#32
  | 92 => 0xBF83D3BE#32
  | 93 => 0xBF21A59C#32
  | 94 => 0x3F92F8CA#32
  | 95 => 0x3FC6D57B#32
  | 96 => 0xBC866050#32
  | 97 => 0xBF253FDF#32
  | 98 => 0x3F55FE74#32
  | 99 => 0x40166AB1#32
  | 100 => 0xBF73A3D2#32
  | 101 => 0xBF12EC04#32
  | 102 => 0x3FDEF21A#32
  | 103 => 0x4013FC43#32
  | 104 => 0xBF9CAF65#32
  | 105 => 0xBD8AE288#32
  | 106 => 0x3F224EDE#32
  | 107 => 0xBDACD9B3#32
  | 108 => 0x3FC07E89#32
  | 109 => 0xBF500678#32
  | 110 => 0x3FE86BCC#32
  | 111 => 0x3F8142EB#32
  | 112 => 0xBEEB3377#32
  | 113 => 0xBDC69894#32
  | 114 => 0x407EF7ED#32
  | 115 => 0x3FE74271#32
  | 116 => 0xBF14BE20#32
  | 117 => 0x3FA705E4#32
  | 118 => 0x3E84070E#32
  | 119 => 0xBF457154#32
  | 120 => 0xBF2C0A27#32
  | 121 => 0xBF3C1521#32
  | 122 => 0x3EF0EB36#32
  | 123 => 0x3FB73413#32
  | 124 => 0x400B9F20#32
  | 125 => 0x3F0FD867#32
  | 126 => 0x3F5164B5#32
  | 127 => 0x3D896747#32
  | _ => 0#32

noncomputable abbrev lit0t0_833 (i : Nat) : BitVec 32 := match i % 128 with
  | 0 => 0xBF27C2FC#32
  | 1 => 0xBE6D48DE#32
  | 2 => 0x3F029C5E#32
  | 3 => 0xBF87B372#32
  | 4 => 0x3F836186#32
  | 5 => 0x4026242B#32
  | 6 => 0xBFBBC9D1#32
  | 7 => 0xBFE4D1C9#32
  | 8 => 0xBFB7E247#32
  | 9 => 0xBEEEFC6C#32
  | 10 => 0xBD301BA6#32
  | 11 => 0x3EBB707D#32
  | 12 => 0xBEDB2F31#32
  | 13 => 0x401984EF#32
  | 14 => 0x404FC4DA#32
  | 15 => 0xBF857854#32
  | 16 => 0x3F906C1A#32
  | 17 => 0xBF943EDB#32
  | 18 => 0x3F9D980B#32
  | 19 => 0x3FF4EAC0#32
  | 20 => 0xBDC10A58#32
  | 21 => 0x3E314462#32
  | 22 => 0x3F808073#32
  | 23 => 0xBF6D4794#32
  | 24 => 0x3F191984#32
  | 25 => 0x3EBC6AB5#32
  | 26 => 0x3EDB4F06#32
  | 27 => 0xBEF110D1#32
  | 28 => 0x404038FE#32
  | 29 => 0x402907FC#32
  | 30 => 0x3FD358BF#32
  | 31 => 0xBE599EE8#32
  | 32 => 0x3F435962#32
  | 33 => 0x4037ADFE#32
  | 34 => 0x40658D2E#32
  | 35 => 0xBD2DEDDF#32
  | 36 => 0x3E4514C7#32
  | 37 => 0xBFB9A01E#32
  | 38 => 0xBF5792D6#32
  | 39 => 0x40F45D7E#32
  | 40 => 0x40203054#32
  | 41 => 0xBE382903#32
  | 42 => 0xBF9063BE#32
  | 43 => 0x3F5428BE#32
  | 44 => 0x4027A62A#32
  | 45 => 0xBD079376#32
  | 46 => 0xBF649791#32
  | 47 => 0x3E816782#32
  | 48 => 0x3F7E70BE#32
  | 49 => 0x3FC48336#32
  | 50 => 0xBE8CB6AE#32
  | 51 => 0x3DEB05E3#32
  | 52 => 0xBE8986A9#32
  | 53 => 0x3FB5B4FA#32
  | 54 => 0x3E703390#32
  | 55 => 0x3EC19BDF#32
  | 56 => 0x404318B6#32
  | 57 => 0xBF0076D6#32
  | 58 => 0xBECD8996#32
  | 59 => 0xBF3A9090#32
  | 60 => 0x402F28E1#32
  | 61 => 0xBF919B55#32
  | 62 => 0xBECDC7A6#32
  | 63 => 0xBF1C4D59#32
  | 64 => 0x3CB1A611#32
  | 65 => 0x3F2E89B2#32
  | 66 => 0x3E89383A#32
  | 67 => 0x3F9B1B9F#32
  | 68 => 0xBFA6B456#32
  | 69 => 0x3F3F81DB#32
  | 70 => 0x400CDB3C#32
  | 71 => 0x3F610E5E#32
  | 72 => 0x3F87E8DC#32
  | 73 => 0x3F6EAA58#32
  | 74 => 0x3FEE0DDF#32
  | 75 => 0xBF27639D#32
  | 76 => 0x3EA13948#32
  | 77 => 0x3E848383#32
  | 78 => 0x403A6D14#32
  | 79 => 0x3FAD45D5#32
  | 80 => 0xBE1CA2B7#32
  | 81 => 0xBEE8326A#32
  | 82 => 0xBE272A21#32
  | 83 => 0x3E2F227F#32
  | 84 => 0xBF410A99#32
  | 85 => 0xBD47C7B8#32
  | 86 => 0xBEFD3332#32
  | 87 => 0x40332709#32
  | 88 => 0x3FF2CDE0#32
  | 89 => 0xBE643FA3#32
  | 90 => 0x3DC87711#32
  | 91 => 0x40128A75#32
  | 92 => 0x3F422908#32
  | 93 => 0x403AFD38#32
  | 94 => 0xBF85AC42#32
  | 95 => 0xBF5D2192#32
  | 96 => 0xBEE70642#32
  | 97 => 0xBEC7A511#32
  | 98 => 0x3F93E254#32
  | 99 => 0xBF606F65#32
  | 100 => 0xBE71E91D#32
  | 101 => 0x3F69A02A#32
  | 102 => 0x3E969757#32
  | 103 => 0x3F5A6734#32
  | 104 => 0xBE7373A2#32
  | 105 => 0x3CF60BA3#32
  | 106 => 0x3F64457F#32
  | 107 => 0xBFB04BDA#32
  | 108 => 0x3F6AE6FF#32
  | 109 => 0xBFD3EB6C#32
  | 110 => 0xBF103C92#32
  | 111 => 0x3FD22B60#32
  | 112 => 0x3F3B58B9#32
  | 113 => 0xBFAD2F28#32
  | 114 => 0x40D095DE#32
  | 115 => 0x405EC31E#32
  | 116 => 0x3EADA124#32
  | 117 => 0x4009F98D#32
  | 118 => 0x3F51DC30#32
  | 119 => 0x409D8D7B#32
  | 120 => 0x3F2DD25D#32
  | 121 => 0x3F584EB0#32
  | 122 => 0x3FDCA9EA#32
  | 123 => 0x405FA291#32
  | 124 => 0x3F21010B#32
  | 125 => 0x3FEAB2FD#32
  | 126 => 0x3F2C4B15#32
  | 127 => 0xBD3BB958#32
  | _ => 0#32

noncomputable abbrev lit0t0_834 (i : Nat) : BitVec 32 := match i % 128 with
  | 0 => 0xBF17A5E6#32
  | 1 => 0xBB9FEDED#32
  | 2 => 0x3F09793E#32
  | 3 => 0x402BFCFB#32
  | 4 => 0x400CD2FB#32
  | 5 => 0x4023DC4C#32
  | 6 => 0x3EBC09F8#32
  | 7 => 0xBEF75550#32
  | 8 => 0x3FE2388C#32
  | 9 => 0x3F987FCA#32
  | 10 => 0x3FAA308D#32
  | 11 => 0x3F333704#32
  | 12 => 0xBF8B730D#32
  | 13 => 0xBF2B29F3#32
  | 14 => 0x3F858924#32
  | 15 => 0x3FAACC53#32
  | 16 => 0xBF7DAB43#32
  | 17 => 0x3D7B39AB#32
  | 18 => 0x3FED30AD#32
  | 19 => 0x3F3E8CDB#32
  | 20 => 0x3F01D3A7#32
  | 21 => 0x3F37CECF#32
  | 22 => 0x3EA9379B#32
  | 23 => 0xBF0B590B#32
  | 24 => 0xBE33CDCF#32
  | 25 => 0x400295BA#32
  | 26 => 0x403AB0C9#32
  | 27 => 0x3E4957D2#32
  | 28 => 0x3F860777#32
  | 29 => 0x4028343A#32
  | 30 => 0x401C9FE8#32
  | 31 => 0xBE6682D0#32
  | 32 => 0xBEF228C4#32
  | 33 => 0x3FCA0018#32
  | 34 => 0xBE809DC9#32
  | 35 => 0x3FDA472B#32
  | 36 => 0xBB9012CC#32
  | 37 => 0xBE343292#32
  | 38 => 0xBE91A32D#32
  | 39 => 0xBE5DDDB4#32
  | 40 => 0x3ED099F1#32
  | 41 => 0x3F128061#32
  | 42 => 0x3F0FC72C#32
  | 43 => 0x3EA11F58#32
  | 44 => 0x3F9B5029#32
  | 45 => 0xBE0701EB#32
  | 46 => 0x400E5B0A#32
  | 47 => 0xBEC7C97D#32
  | 48 => 0xBFB24548#32
  | 49 => 0xBF3AEE1C#32
  | 50 => 0xBF5C2772#32
  | 51 => 0xBF14520C#32
  | 52 => 0xBF2C619B#32
  | 53 => 0x3F4B8913#32
  | 54 => 0x3F1E3337#32
  | 55 => 0x3FB4F050#32
  | 56 => 0x3EBF00B0#32
  | 57 => 0x3FD09662#32
  | 58 => 0xBEE671CE#32
  | 59 => 0x3E541B7C#32
  | 60 => 0xBE3AB06E#32
  | 61 => 0x3E78943E#32
  | 62 => 0x3EFDE5CE#32
  | 63 => 0x3D187B89#32
  | 64 => 0xBDD7DF85#32
  | 65 => 0x403C36C7#32
  | 66 => 0x3F1E6F09#32
  | 67 => 0x3F6D95A0#32
  | 68 => 0xBF1438B3#32
  | 69 => 0x3EA95C75#32
  | 70 => 0xBF771F06#32
  | 71 => 0xBF44239A#32
  | 72 => 0x3F26B200#32
  | 73 => 0x3F5E83FE#32
  | 74 => 0x405E5808#32
  | 75 => 0xBEC508E6#32
  | 76 => 0xBF295F56#32
  | 77 => 0xBDD5C15B#32
  | 78 => 0xBF5B1C17#32
  | 79 => 0x3F504C02#32
  | 80 => 0xBDAFBDC4#32
  | 81 => 0x3EE18453#32
  | 82 => 0xBF98CCC1#32
  | 83 => 0xBE0760F9#32
  | 84 => 0xBF8B7E54#32
  | 85 => 0xBF63627C#32
  | 86 => 0x3E651180#32
  | 87 => 0x3F873DFE#32
  | 88 => 0xBF3AD893#32
  | 89 => 0x40248C2F#32
  | 90 => 0x3E3291C2#32
  | 91 => 0x3FFEA712#32
  | 92 => 0xBF9C4427#32
  | 93 => 0x3F3AF5F2#32
  | 94 => 0x3FECE4D2#32
  | 95 => 0xBDC19ED4#32
  | 96 => 0xBF4138E6#32
  | 97 => 0x3FCF8C1B#32
  | 98 => 0xBF101153#32
  | 99 => 0x3FEACC15#32
  | 100 => 0xBF2022DC#32
  | 101 => 0x40041BB6#32
  | 102 => 0xBDCE3DC1#32
  | 103 => 0xBEDA42E5#32
  | 104 => 0x3FD444C0#32
  | 105 => 0x3FF80690#32
  | 106 => 0x3F000A3A#32
  | 107 => 0x400AA0C6#32
  | 108 => 0x405D78E6#32
  | 109 => 0x3FBD675E#32
  | 110 => 0xBD9D47A7#32
  | 111 => 0x40246F1D#32
  | 112 => 0x40929927#32
  | 113 => 0x405DEBD0#32
  | 114 => 0xBD3BF4ED#32
  | 115 => 0x3E0DE207#32
  | 116 => 0x401F22EB#32
  | 117 => 0x408B0EFC#32
  | 118 => 0x3DFA34D5#32
  | 119 => 0xBD4E8F73#32
  | 120 => 0xBF1E6747#32
  | 121 => 0x3F169B71#32
  | 122 => 0x3DA067B0#32
  | 123 => 0xBF6A38A6#32
  | 124 => 0xBE3FCBCC#32
  | 125 => 0xBF0EC79D#32
  | 126 => 0x3FADCCC1#32
  | 127 => 0x403F2A6D#32
  | _ => 0#32

noncomputable abbrev lit0t0_835 (i : Nat) : BitVec 32 := match i % 128 with
  | 0 => 0x3F6220C0#32
  | 1 => 0x3FECC71A#32
  | 2 => 0x3FEAC551#32
  | 3 => 0x401D2978#32
  | 4 => 0x4056766F#32
  | 5 => 0x3F66E4CE#32
  | 6 => 0x3FFE26BA#32
  | 7 => 0x3FBE1413#32
  | 8 => 0x3FDB6D1A#32
  | 9 => 0xBDA81C1B#32
  | 10 => 0xBF5DF01B#32
  | 11 => 0x3E061B52#32
  | 12 => 0xBE7AE21B#32
  | 13 => 0xBF311098#32
  | 14 => 0x4054A005#32
  | 15 => 0x3EE66B12#32
  | 16 => 0xBEF56C06#32
  | 17 => 0x3F415D52#32
  | 18 => 0xBF821354#32
  | 19 => 0xBDA525D1#32
  | 20 => 0xBF3BE75E#32
  | 21 => 0x3ED03891#32
  | 22 => 0x3FDFA12C#32
  | 23 => 0xBEBAEB9F#32
  | 24 => 0x3F393760#32
  | 25 => 0xBD6B5881#32
  | 26 => 0xBEC072F5#32
  | 27 => 0xBE50FE43#32
  | 28 => 0x3F86187B#32
  | 29 => 0x400E9670#32
  | 30 => 0x403A9C24#32
  | 31 => 0x3E5D1490#32
  | 32 => 0x404FB444#32
  | 33 => 0x3F0A99FC#32
  | 34 => 0xBD07FD82#32
  | 35 => 0xBE0D9E59#32
  | 36 => 0xBD08B830#32
  | 37 => 0x40141EA2#32
  | 38 => 0xBEFD5973#32
  | 39 => 0x3D4A6B35#32
  | 40 => 0xBE96B93D#32
  | 41 => 0x3EB39C00#32
  | 42 => 0xBDE311BF#32
  | 43 => 0x40143BEF#32
  | 44 => 0x3E2C22A9#32
  | 45 => 0x400132D8#32
  | 46 => 0xBE934B33#32
  | 47 => 0x3EBEC3CB#32
  | 48 => 0x4019B851#32
  | 49 => 0x3E5BD7AA#32
  | 50 => 0xBFB89F9E#32
  | 51 => 0xBF3766E4#32
  | 52 => 0x3F155FD4#32
  | 53 => 0x3F9E3C9C#32
  | 54 => 0x3FAAA370#32
  | 55 => 0x3FB1663B#32
  | 56 => 0x3FA73AB9#32
  | 57 => 0xBF1C1E63#32
  | 58 => 0xBE58BE1B#32
  | 59 => 0x3F84CDBA#32
  | 60 => 0xBE5332BC#32
  | 61 => 0xBF93BADA#32
  | 62 => 0x400DC7A0#32
  | 63 => 0x406EF8EB#32
  | 64 => 0xBE10E1F8#32
  | 65 => 0xBF35F3DF#32
  | 66 => 0x3F9083AA#32
  | 67 => 0x4016B5F5#32
  | 68 => 0x3F594764#32
  | 69 => 0xBE989123#32
  | 70 => 0x3ED4BB46#32
  | 71 => 0xBEE955CE#32
  | 72 => 0x3F041236#32
  | 73 => 0x3F1AD1BE#32
  | 74 => 0x4046164A#32
  | 75 => 0x3FD91F75#32
  | 76 => 0x3EF05B80#32
  | 77 => 0x3F3BE074#32
  | 78 => 0x3F365DF1#32
  | 79 => 0xBE2346BB#32
  | 80 => 0x401C112A#32
  | 81 => 0x3FA52782#32
  | 82 => 0x3FD453D7#32
  | 83 => 0x3F3B6B11#32
  | 84 => 0x4020279A#32
  | 85 => 0x3F2D4F10#32
  | 86 => 0xBE8EB742#32
  | 87 => 0x3E3F740D#32
  | 88 => 0x3F5B825F#32
  | 89 => 0x4017DF93#32
  | 90 => 0x3FE69A72#32
  | 91 => 0x3FD8A18C#32
  | 92 => 0x3F947A4B#32
  | 93 => 0xBE9DB7FF#32
  | 94 => 0x3FA46438#32
  | 95 => 0x3F839428#32
  | 96 => 0xBF10E788#32
  | 97 => 0x4005B51C#32
  | 98 => 0x3FFCAFA1#32
  | 99 => 0xBF06A5CA#32
  | 100 => 0x3F413F4B#32
  | 101 => 0x40044A04#32
  | 102 => 0xBF0440C3#32
  | 103 => 0x4079A512#32
  | 104 => 0x3F53102B#32
  | 105 => 0x3EC7ECEB#32
  | 106 => 0xBEF4B3C8#32
  | 107 => 0x3F886C3E#32
  | 108 => 0x4025E337#32
  | 109 => 0x3F522CA9#32
  | 110 => 0x3F13DFB1#32
  | 111 => 0xBEBCC0A4#32
  | 112 => 0x3F19BACF#32
  | 113 => 0x3F981301#32
  | 114 => 0xBE25612A#32
  | 115 => 0x40A63D02#32
  | 116 => 0x3F047235#32
  | 117 => 0x3F200464#32
  | 118 => 0xBF707CAA#32
  | 119 => 0x3E479816#32
  | 120 => 0xBEC344DD#32
  | 121 => 0x3F01DDE4#32
  | 122 => 0xBF91E142#32
  | 123 => 0xBF3E342F#32
  | 124 => 0x3E0F4775#32
  | 125 => 0x3FC10E48#32
  | 126 => 0xBFCE70F6#32
  | 127 => 0xBF1ACFF6#32
  | _ => 0#32

noncomputable abbrev lit0t0_836 (i : Nat) : BitVec 32 := match i % 128 with
  | 0 => 0x3F80DA85#32
  | 1 => 0x3FB35FB4#32
  | 2 => 0x401B231F#32
  | 3 => 0xBF971115#32
  | 4 => 0x3F54F1B2#32
  | 5 => 0x3EE93914#32
  | 6 => 0xBF426EEB#32
  | 7 => 0xBF1BBABF#32
  | 8 => 0x404332AE#32
  | 9 => 0xBE85748E#32
  | 10 => 0xBECC2ED7#32
  | 11 => 0x4086C04C#32
  | 12 => 0x3D80BD82#32
  | 13 => 0xBEB0DB29#32
  | 14 => 0x3F99D858#32
  | 15 => 0x3E7473B6#32
  | 16 => 0x3F16F1C3#32
  | 17 => 0x3EF46EB6#32
  | 18 => 0x3F6098E8#32
  | 19 => 0x3FA4EA52#32
  | 20 => 0x40128B04#32
  | 21 => 0x4041BED8#32
  | 22 => 0x3F09235E#32
  | 23 => 0x3ED8DA50#32
  | 24 => 0x40CF4C07#32
  | 25 => 0x3F343AA2#32
  | 26 => 0x3F1BC446#32
  | 27 => 0x4067E1E0#32
  | 28 => 0xBEE7CFC1#32
  | 29 => 0x3E35C8F3#32
  | 30 => 0x3F97B480#32
  | 31 => 0x3EE4ED3E#32
  | 32 => 0xBFC2E136#32
  | 33 => 0x3EABC69E#32
  | 34 => 0xBCB07CCD#32
  | 35 => 0x3F810AB3#32
  | 36 => 0x407360CF#32
  | 37 => 0x3DF4ECB9#32
  | 38 => 0x3ED7AE97#32
  | 39 => 0x3F5FD332#32
  | 40 => 0xBBD068F9#32
  | 41 => 0x3F722BD8#32
  | 42 => 0xBF9FA6E5#32
  | 43 => 0xBE1077F6#32
  | 44 => 0xBF26CABE#32
  | 45 => 0x3F65F938#32
  | 46 => 0xBB572381#32
  | 47 => 0x3ED6EF08#32
  | 48 => 0xBF0CCF78#32
  | 49 => 0x3F8E33F4#32
  | 50 => 0x40175778#32
  | 51 => 0x407B0E83#32
  | 52 => 0xBDADAF64#32
  | 53 => 0x3F001AC5#32
  | 54 => 0xBE69430D#32
  | 55 => 0x3E975723#32
  | 56 => 0x3EBDD356#32
  | 57 => 0x3F33AF9D#32
  | 58 => 0x406B234B#32
  | 59 => 0xBF97E5EA#32
  | 60 => 0x3FBF41F4#32
  | 61 => 0x3F3E12EB#32
  | 62 => 0x3F2BF824#32
  | 63 => 0xBF2B5EE5#32
  | 64 => 0x3F2D12DF#32
  | 65 => 0x3FE63DAE#32
  | 66 => 0x3E89F4DE#32
  | 67 => 0xBE32DDC9#32
  | 68 => 0x40231892#32
  | 69 => 0x3E8FCAC0#32
  | 70 => 0x3ED9BA56#32
  | 71 => 0x3D017121#32
  | 72 => 0x3FC1BF38#32
  | 73 => 0x3E718BF9#32
  | 74 => 0xBEEBAFA6#32
  | 75 => 0x401A55CD#32
  | 76 => 0x3F4D09A3#32
  | 77 => 0x40301C43#32
  | 78 => 0x3F890820#32
  | 79 => 0x3FB949B8#32
  | 80 => 0x3F036522#32
  | 81 => 0x3EC6C9F1#32
  | 82 => 0x3F7A8728#32
  | 83 => 0xBE1B6BE0#32
  | 84 => 0x3EA58FE2#32
  | 85 => 0xBF80AEBA#32
  | 86 => 0x3FDB7203#32
  | 87 => 0xBE13E25A#32
  | 88 => 0xBD32ADC5#32
  | 89 => 0x3F5C217C#32
  | 90 => 0x3EF131B4#32
  | 91 => 0x3FBABA33#32
  | 92 => 0x3FD924E2#32
  | 93 => 0x3EA67681#32
  | 94 => 0x3D4DB595#32
  | 95 => 0x3F784958#32
  | 96 => 0x40572CAE#32
  | 97 => 0xBE0261C7#32
  | 98 => 0x3FE040EA#32
  | 99 => 0x3FA8C8D0#32
  | 100 => 0x3E3EA6B6#32
  | 101 => 0x40AC2899#32
  | 102 => 0xBF14FB85#32
  | 103 => 0x3F524F21#32
  | 104 => 0x405BA84A#32
  | 105 => 0xBF5E4868#32
  | 106 => 0x3EF07866#32
  | 107 => 0x3F74E758#32
  | 108 => 0x3FD011C3#32
  | 109 => 0xBF80D943#32
  | 110 => 0xBECDC9D6#32
  | 111 => 0x3EEF6BD7#32
  | 112 => 0x3F6C2697#32
  | 113 => 0xBDFE8D0C#32
  | 114 => 0x3E202505#32
  | 115 => 0xBF1F05B0#32
  | 116 => 0x3FA853B7#32
  | 117 => 0xBF217E27#32
  | 118 => 0xBF2B953C#32
  | 119 => 0xBD9DCFD4#32
  | 120 => 0xBEC434AF#32
  | 121 => 0x3FA762A5#32
  | 122 => 0x3F4031D3#32
  | 123 => 0x401058A1#32
  | 124 => 0x3E90C318#32
  | 125 => 0xBE06D8DB#32
  | 126 => 0x3F153D56#32
  | 127 => 0xBF08E751#32
  | _ => 0#32

noncomputable abbrev lit0t0_837 (i : Nat) : BitVec 32 := match i % 128 with
  | 0 => 0xBF5D518B#32
  | 1 => 0xBF1209DF#32
  | 2 => 0xBEC975CB#32
  | 3 => 0x4061481C#32
  | 4 => 0xBEBCBDB4#32
  | 5 => 0x3FB9C491#32
  | 6 => 0xBE0A48A0#32
  | 7 => 0x40367CC7#32
  | 8 => 0x3F476F3F#32
  | 9 => 0xBFA2CDC7#32
  | 10 => 0xBF06CA34#32
  | 11 => 0x3D092DBD#32
  | 12 => 0x3E66C660#32
  | 13 => 0xBF1229B6#32
  | 14 => 0xBF8FB993#32
  | 15 => 0x3ED9F776#32
  | 16 => 0x3FD9D14B#32
  | 17 => 0x40044127#32
  | 18 => 0x40B71CD3#32
  | 19 => 0xBE3B533F#32
  | 20 => 0x3E912B3C#32
  | 21 => 0xBE8FF2A3#32
  | 22 => 0x40186222#32
  | 23 => 0x3E615F89#32
  | 24 => 0x3FC44691#32
  | 25 => 0xBD307F9F#32
  | 26 => 0xBF14B582#32
  | 27 => 0x400C9061#32
  | 28 => 0x3F4A8FAA#32
  | 29 => 0x3E502807#32
  | 30 => 0xBF69F48C#32
  | 31 => 0x3F01B327#32
  | 32 => 0xBF6DE2D4#32
  | 33 => 0x3F5A7117#32
  | 34 => 0xBF5E74A0#32
  | 35 => 0x3F09A241#32
  | 36 => 0x3E864E9A#32
  | 37 => 0xBF9F9B7C#32
  | 38 => 0x40360919#32
  | 39 => 0xBDB5BBFB#32
  | 40 => 0x3FEF3FEA#32
  | 41 => 0xBE817790#32
  | 42 => 0xBF2AA1C7#32
  | 43 => 0xBF81D2ED#32
  | 44 => 0xBF4BB3B0#32
  | 45 => 0x3F10E0FA#32
  | 46 => 0xBF5B7BB7#32
  | 47 => 0x3FF1DE12#32
  | 48 => 0x3EABE8EE#32
  | 49 => 0xBEA183E2#32
  | 50 => 0x3E80CAB6#32
  | 51 => 0xBF3D71FE#32
  | 52 => 0xBFD2EC3C#32
  | 53 => 0xBFB663C9#32
  | 54 => 0xBE97F346#32
  | 55 => 0x3F66AF02#32
  | 56 => 0x3F0A4E60#32
  | 57 => 0x408781B8#32
  | 58 => 0x3FB77DAD#32
  | 59 => 0xBD79ED90#32
  | 60 => 0x3F2C6FE4#32
  | 61 => 0xBEBA6181#32
  | 62 => 0x3E1F6C19#32
  | 63 => 0xBE762709#32
  | 64 => 0xBF321AF4#32
  | 65 => 0x3ED628D2#32
  | 66 => 0x40189EE5#32
  | 67 => 0xBF7411D2#32
  | 68 => 0xBF157D3B#32
  | 69 => 0x3EF52BD8#32
  | 70 => 0x3F7AA39E#32
  | 71 => 0x3FB4F74D#32
  | 72 => 0xBF97FED8#32
  | 73 => 0xBF04B08A#32
  | 74 => 0xBEE9A1BE#32
  | 75 => 0x3E609213#32
  | 76 => 0xBF298958#32
  | 77 => 0x3FDBBBD8#32
  | 78 => 0x409B0FAC#32
  | 79 => 0x3E49E501#32
  | 80 => 0x3F57DA85#32
  | 81 => 0xBF5848B2#32
  | 82 => 0x40CB625F#32
  | 83 => 0x3F97C9EE#32
  | 84 => 0x408BC3F9#32
  | 85 => 0x3DB3F148#32
  | 86 => 0x3ECCA484#32
  | 87 => 0x3FAD9621#32
  | 88 => 0xBF92CA35#32
  | 89 => 0x3FBEC3F7#32
  | 90 => 0xBF903DB0#32
  | 91 => 0xBF5A048F#32
  | 92 => 0x3F2AA7D6#32
  | 93 => 0x3F1BFBA0#32
  | 94 => 0xBE1FC707#32
  | 95 => 0xBE1F9A88#32
  | 96 => 0x3E5A80B5#32
  | 97 => 0x3FF17F4E#32
  | 98 => 0x3FD0B770#32
  | 99 => 0xBF7F772C#32
  | 100 => 0x3F8A335E#32
  | 101 => 0xBF21120C#32
  | 102 => 0x3FFB833D#32
  | 103 => 0x3F3AF756#32
  | 104 => 0x40453AAF#32
  | 105 => 0xBF7A9507#32
  | 106 => 0xBF296681#32
  | 107 => 0xBF7A680C#32
  | 108 => 0x3FB8D0B7#32
  | 109 => 0xBF6EBB0E#32
  | 110 => 0x3F906F45#32
  | 111 => 0x3F88D940#32
  | 112 => 0x3C2DE56B#32
  | 113 => 0x3F833293#32
  | 114 => 0x3D4C321D#32
  | 115 => 0x3F850DC8#32
  | 116 => 0xBF443C1E#32
  | 117 => 0x3FE6DDAC#32
  | 118 => 0x3F814A9F#32
  | 119 => 0x3F0313E2#32
  | 120 => 0x3F848D1A#32
  | 121 => 0x3F29CA68#32
  | 122 => 0x3F995F4A#32
  | 123 => 0x3E966E78#32
  | 124 => 0xBE057749#32
  | 125 => 0x401E59FA#32
  | 126 => 0xBFBF314B#32
  | 127 => 0xBE36609E#32
  | _ => 0#32

noncomputable abbrev lit0t0_838 (i : Nat) : BitVec 32 := match i % 128 with
  | 0 => 0x3EF44808#32
  | 1 => 0x40AA6950#32
  | 2 => 0xBF447B9F#32
  | 3 => 0x3F08EE99#32
  | 4 => 0x3E9B8437#32
  | 5 => 0xBF633248#32
  | 6 => 0x3FA1072A#32
  | 7 => 0xBFD3AB52#32
  | 8 => 0x3FE15F1D#32
  | 9 => 0x3FBB7858#32
  | 10 => 0xBED0B762#32
  | 11 => 0x3FC343B3#32
  | 12 => 0xBF083742#32
  | 13 => 0x3FA59642#32
  | 14 => 0xBF11F16C#32
  | 15 => 0xBEE8DA0B#32
  | 16 => 0xBF555AC0#32
  | 17 => 0x3FAE7DEB#32
  | 18 => 0x4057DBE2#32
  | 19 => 0x40828902#32
  | 20 => 0xBFAB951B#32
  | 21 => 0x3F935462#32
  | 22 => 0xBF0CF68D#32
  | 23 => 0x3FC2F44E#32
  | 24 => 0xBF504663#32
  | 25 => 0x3FEC3017#32
  | 26 => 0x3DEEB4E1#32
  | 27 => 0x3FA0F011#32
  | 28 => 0xBE0DB8EE#32
  | 29 => 0x4023821F#32
  | 30 => 0xBF14F351#32
  | 31 => 0x40253106#32
  | 32 => 0x3EEDA7B6#32
  | 33 => 0x3D2AAC68#32
  | 34 => 0x403A7485#32
  | 35 => 0x401D8BDB#32
  | 36 => 0xBF50B676#32
  | 37 => 0x3FA0CB1A#32
  | 38 => 0x3F57EB7E#32
  | 39 => 0xBF9675BA#32
  | 40 => 0x3FB648DC#32
  | 41 => 0x3EFC0799#32
  | 42 => 0x3EC999D6#32
  | 43 => 0xBED0ED47#32
  | 44 => 0x3F965FEA#32
  | 45 => 0x409173E6#32
  | 46 => 0x3EC740F9#32
  | 47 => 0x3F214B8F#32
  | 48 => 0xBE826F05#32
  | 49 => 0xBCD8A945#32
  | 50 => 0xBEAADA25#32
  | 51 => 0xBF40C81F#32
  | 52 => 0xBF2B1704#32
  | 53 => 0x3E465CBE#32
  | 54 => 0xBF5FBEEA#32
  | 55 => 0xBE8E549B#32
  | 56 => 0xBECC62F7#32
  | 57 => 0xBEBD4E29#32
  | 58 => 0x404CF05C#32
  | 59 => 0x40837447#32
  | 60 => 0x3F358B8C#32
  | 61 => 0x3FEB7070#32
  | 62 => 0xBDBBB4CD#32
  | 63 => 0x3FB657F9#32
  | 64 => 0x409241DD#32
  | 65 => 0xBE440A04#32
  | 66 => 0x3D36892F#32
  | 67 => 0xBF3341A9#32
  | 68 => 0xBF6972AA#32
  | 69 => 0x3C8F8D5D#32
  | 70 => 0xBEC5E29F#32
  | 71 => 0x40A3FDEE#32
  | 72 => 0xBEBB6F7A#32
  | 73 => 0x400589E0#32
  | 74 => 0x3F22A099#32
  | 75 => 0xBDF91E46#32
  | 76 => 0x3F9CEE2A#32
  | 77 => 0x3FBDDD2C#32
  | 78 => 0xBE8CBEA5#32
  | 79 => 0x3F36D25A#32
  | 80 => 0xBF23C16F#32
  | 81 => 0x3E811EB9#32
  | 82 => 0xBF642779#32
  | 83 => 0x3FDBD3F8#32
  | 84 => 0x3F38B0F4#32
  | 85 => 0x3F9C2DC6#32
  | 86 => 0x3E4CA3E1#32
  | 87 => 0xBED1FA32#32
  | 88 => 0x4012D46F#32
  | 89 => 0x3D97FEA5#32
  | 90 => 0xBD24D663#32
  | 91 => 0x3FB5BE12#32
  | 92 => 0xBFA98BA8#32
  | 93 => 0xBD339BE0#32
  | 94 => 0x3FF15B56#32
  | 95 => 0x3F3D6E75#32
  | 96 => 0xBECEF6F8#32
  | 97 => 0xBF81BC14#32
  | 98 => 0xBC20D5BE#32
  | 99 => 0x3FBFF4FD#32
  | 100 => 0xBF2F5990#32
  | 101 => 0xBDF15F4A#32
  | 102 => 0x3E70E8E7#32
  | 103 => 0x3EFAB7CF#32
  | 104 => 0xBF49B683#32
  | 105 => 0xBFE748EC#32
  | 106 => 0xBE1B64A8#32
  | 107 => 0x40046817#32
  | 108 => 0xBEEE4B82#32
  | 109 => 0x3F8617C4#32
  | 110 => 0x3EA2EB35#32
  | 111 => 0x3E47BEEB#32
  | 112 => 0x4029220B#32
  | 113 => 0x3F9242C6#32
  | 114 => 0x3E3F05C8#32
  | 115 => 0x4079844A#32
  | 116 => 0xBEFF706D#32
  | 117 => 0xBF21F1F8#32
  | 118 => 0x3FC330D7#32
  | 119 => 0xBE0CC68F#32
  | 120 => 0x3EC1DE63#32
  | 121 => 0x3EF52098#32
  | 122 => 0x3F3E68B6#32
  | 123 => 0xBFBDEDB6#32
  | 124 => 0xBEDA6C1B#32
  | 125 => 0xBE35C731#32
  | 126 => 0x4054B7E5#32
  | 127 => 0xBEFAA65F#32
  | _ => 0#32

noncomputable abbrev lit0t0_839 (i : Nat) : BitVec 32 := match i % 128 with
  | 0 => 0x3F02C4B1#32
  | 1 => 0x3D9DF2C0#32
  | 2 => 0x403294FB#32
  | 3 => 0x3F881F83#32
  | 4 => 0xBEFDF3FC#32
  | 5 => 0x3F3D6187#32
  | 6 => 0xBED72916#32
  | 7 => 0x401F21FA#32
  | 8 => 0xBE00E51F#32
  | 9 => 0x3F00A6EA#32
  | 10 => 0xBF0C0262#32
  | 11 => 0x3EF77562#32
  | 12 => 0x404CA50F#32
  | 13 => 0x3FD8405E#32
  | 14 => 0xBF2A2378#32
  | 15 => 0xBF5DA2E6#32
  | 16 => 0x3E814210#32
  | 17 => 0x4028E298#32
  | 18 => 0x3F447A10#32
  | 19 => 0x3E277EF1#32
  | 20 => 0x3F181953#32
  | 21 => 0x3F93D9E2#32
  | 22 => 0xBE993967#32
  | 23 => 0x3FBD1D17#32
  | 24 => 0x3E1B1802#32
  | 25 => 0x3F93C1E2#32
  | 26 => 0x3F008DDF#32
  | 27 => 0x402992BC#32
  | 28 => 0xBF15E121#32
  | 29 => 0x3F5B921C#32
  | 30 => 0x3F430154#32
  | 31 => 0x3F072F94#32
  | 32 => 0x403B78C6#32
  | 33 => 0x3E996D2C#32
  | 34 => 0x3EFBEB02#32
  | 35 => 0x3F89F7EF#32
  | 36 => 0xBFA1B3B8#32
  | 37 => 0xBEA0F177#32
  | 38 => 0xBE8CEC56#32
  | 39 => 0x3F025416#32
  | 40 => 0x3F3BA648#32
  | 41 => 0x3FAFEAED#32
  | 42 => 0x40078291#32
  | 43 => 0xBEC361D7#32
  | 44 => 0x3CE20631#32
  | 45 => 0x40754094#32
  | 46 => 0x3FC4C30E#32
  | 47 => 0x3F654F02#32
  | 48 => 0x3D9AAF0E#32
  | 49 => 0xBF5B7C34#32
  | 50 => 0xBDBFABCC#32
  | 51 => 0xBEDAF625#32
  | 52 => 0xBF45557C#32
  | 53 => 0x3EAA37DF#32
  | 54 => 0xBDA7F5E0#32
  | 55 => 0x3D98A1D8#32
  | 56 => 0xBE8ACF20#32
  | 57 => 0xBF7E3079#32
  | 58 => 0x3DC69CED#32
  | 59 => 0x3FEFA9DD#32
  | 60 => 0xBEC96036#32
  | 61 => 0xBE3AA549#32
  | 62 => 0x3F9744C2#32
  | 63 => 0x3FC36385#32
  | 64 => 0x3F8C7240#32
  | 65 => 0x3E906232#32
  | 66 => 0xBF7200E4#32
  | 67 => 0x3DA1B7E5#32
  | 68 => 0x4004E9FC#32
  | 69 => 0x3EA30249#32
  | 70 => 0x405E841A#32
  | 71 => 0xBF407BBC#32
  | 72 => 0x3E2B4E63#32
  | 73 => 0x3F95EBC7#32
  | 74 => 0x3E487320#32
  | 75 => 0x3FAE0429#32
  | 76 => 0x400C374F#32
  | 77 => 0x3FA17E34#32
  | 78 => 0xBC8E602D#32
  | 79 => 0x3DF711E0#32
  | 80 => 0x3EF3285F#32
  | 81 => 0xBEE3F29C#32
  | 82 => 0x3F158757#32
  | 83 => 0x3FA58A2D#32
  | 84 => 0x3F2B3597#32
  | 85 => 0xBF42E67B#32
  | 86 => 0x3F899117#32
  | 87 => 0x3F939108#32
  | 88 => 0x402DDC28#32
  | 89 => 0xBF298140#32
  | 90 => 0x3FF2A72C#32
  | 91 => 0x3C87AED2#32
  | 92 => 0x410FDD38#32
  | 93 => 0x3F15010A#32
  | 94 => 0x3EECC6EC#32
  | 95 => 0x3FB7A284#32
  | 96 => 0x3F22855E#32
  | 97 => 0xBE20EF1C#32
  | 98 => 0x3FEB71E8#32
  | 99 => 0xBF1D0A4A#32
  | 100 => 0x3FBFBB83#32
  | 101 => 0xBE57482D#32
  | 102 => 0x40192644#32
  | 103 => 0x3D9E4B88#32
  | 104 => 0x3F472809#32
  | 105 => 0x3FA1DE36#32
  | 106 => 0x3E8D4E28#32
  | 107 => 0xBF806512#32
  | 108 => 0x3FAD3612#32
  | 109 => 0x3FD1CC42#32
  | 110 => 0x3FF0CA69#32
  | 111 => 0x3EDDCD82#32
  | 112 => 0xBF0FABDE#32
  | 113 => 0x3F918D7C#32
  | 114 => 0x3FEE55BA#32
  | 115 => 0xBF94F055#32
  | 116 => 0xBE2E25D6#32
  | 117 => 0xBD38FE62#32
  | 118 => 0x3CF979EE#32
  | 119 => 0xBF7478E4#32
  | 120 => 0x3DCB87F0#32
  | 121 => 0x3EE4CB10#32
  | 122 => 0x4028E83C#32
  | 123 => 0x3F950289#32
  | 124 => 0xBF5324FB#32
  | 125 => 0xBEAB0504#32
  | 126 => 0x3E35BBC2#32
  | 127 => 0x4028A65C#32
  | _ => 0#32

noncomputable abbrev lit0t0_840 (i : Nat) : BitVec 32 := match i % 128 with
  | 0 => 0xBF24D8D8#32
  | 1 => 0x3FDD2B26#32
  | 2 => 0xBD45E701#32
  | 3 => 0x3FED4454#32
  | 4 => 0xBD870E09#32
  | 5 => 0x3E8D7B7F#32
  | 6 => 0x3F7234C6#32
  | 7 => 0x3EBDD910#32
  | 8 => 0x4035795D#32
  | 9 => 0x3FF9D224#32
  | 10 => 0x3F9FAD83#32
  | 11 => 0x3DA83774#32
  | 12 => 0x3FA6BBFB#32
  | 13 => 0x3F5F20A6#32
  | 14 => 0xBF13AA0F#32
  | 15 => 0x3F684E82#32
  | 16 => 0x3FAABC2F#32
  | 17 => 0xBECEF899#32
  | 18 => 0xBEB1027F#32
  | 19 => 0x3D54916C#32
  | 20 => 0xBF0D2459#32
  | 21 => 0xBF22F5F8#32
  | 22 => 0x3FD46FC0#32
  | 23 => 0xBFC7B8A4#32
  | 24 => 0x3D665699#32
  | 25 => 0x3EB13561#32
  | 26 => 0x3F86991C#32
  | 27 => 0x3E9C3C9D#32
  | 28 => 0xBF8BA3FF#32
  | 29 => 0x3BC0DE05#32
  | 30 => 0xBD363218#32
  | 31 => 0xBF80BA45#32
  | 32 => 0x3ED23632#32
  | 33 => 0xBF5AA79A#32
  | 34 => 0xBD7303B4#32
  | 35 => 0xBEA6E3B7#32
  | 36 => 0x40901B46#32
  | 37 => 0xBE6F60EB#32
  | 38 => 0x3FA5A9FE#32
  | 39 => 0xBF09A31E#32
  | 40 => 0x3DD86A24#32
  | 41 => 0xBF6D1943#32
  | 42 => 0x400F3B98#32
  | 43 => 0x3E0F879A#32
  | 44 => 0x3F37EE3A#32
  | 45 => 0x3FB03396#32
  | 46 => 0xBE040B45#32
  | 47 => 0xBD9E3765#32
  | 48 => 0x3EC0EB07#32
  | 49 => 0xBF709236#32
  | 50 => 0xBEA22D42#32
  | 51 => 0x3F11B7A8#32
  | 52 => 0x3FA8B7B4#32
  | 53 => 0xBE9F9BAD#32
  | 54 => 0x400946A7#32
  | 55 => 0xBF9DF30B#32
  | 56 => 0x4017A6C6#32
  | 57 => 0x404E5CB7#32
  | 58 => 0xBEB0ACF8#32
  | 59 => 0x3F6AD22D#32
  | 60 => 0xBF84BDD6#32
  | 61 => 0xBF3B1F24#32
  | 62 => 0x3FA6988E#32
  | 63 => 0x40AA47E8#32
  | 64 => 0x3E48D21B#32
  | 65 => 0x3EA8F871#32
  | 66 => 0x3FABC6AC#32
  | 67 => 0x3EF94526#32
  | 68 => 0xBDBE6897#32
  | 69 => 0xBF80578B#32
  | 70 => 0xBF3A7E46#32
  | 71 => 0xBDCDE7D9#32
  | 72 => 0x3F1FD668#32
  | 73 => 0xBF6A217C#32
  | 74 => 0xBE911BB4#32
  | 75 => 0xBDAA817E#32
  | 76 => 0x3EF3BD29#32
  | 77 => 0xBF2322A2#32
  | 78 => 0x3F8807EB#32
  | 79 => 0x3EF989BC#32
  | 80 => 0x3F8ED296#32
  | 81 => 0x3FCD981B#32
  | 82 => 0x3F80EBD3#32
  | 83 => 0x3E62E807#32
  | 84 => 0x3F77ED9E#32
  | 85 => 0x3E85D80A#32
  | 86 => 0x3E93A6C6#32
  | 87 => 0xBF8AB469#32
  | 88 => 0xBEACCD2F#32
  | 89 => 0x3EABC3B6#32
  | 90 => 0x3B8697AA#32
  | 91 => 0x3EAC85D0#32
  | 92 => 0xBEA6412D#32
  | 93 => 0xBF593FDE#32
  | 94 => 0x3E88DC0D#32
  | 95 => 0x3F7DBEB8#32
  | 96 => 0x3E43119D#32
  | 97 => 0x3FA7DDF8#32
  | 98 => 0xBF16E124#32
  | 99 => 0xBF34046F#32
  | 100 => 0x40888BF9#32
  | 101 => 0xBF311553#32
  | 102 => 0xBF4FF6D4#32
  | 103 => 0x3E933086#32
  | 104 => 0xBF1DC456#32
  | 105 => 0xBDA58750#32
  | 106 => 0x3E77B6E8#32
  | 107 => 0x3F8674DC#32
  | 108 => 0x3E7B9C0F#32
  | 109 => 0xBE5A5448#32
  | 110 => 0x3E3E7E21#32
  | 111 => 0x3F76DA06#32
  | 112 => 0x3EFA646F#32
  | 113 => 0x3E0900D2#32
  | 114 => 0x40058252#32
  | 115 => 0x3E2BC90F#32
  | 116 => 0x3F48BF92#32
  | 117 => 0x3DB518D7#32
  | 118 => 0xBEF938DC#32
  | 119 => 0x3F7A4E0D#32
  | 120 => 0x3F30793F#32
  | 121 => 0xBF134FCE#32
  | 122 => 0x3EFFCBCA#32
  | 123 => 0xBF2778BD#32
  | 124 => 0x402D0279#32
  | 125 => 0xBFB656C3#32
  | 126 => 0xBD5C0CBA#32
  | 127 => 0xBF89D0AB#32
  | _ => 0#32

noncomputable abbrev lit0t0_841 (i : Nat) : BitVec 32 := match i % 128 with
  | 0 => 0x3FDD595F#32
  | 1 => 0x3EEAE149#32
  | 2 => 0xBF0D0B5B#32
  | 3 => 0x3F24BE5A#32
  | 4 => 0xBEFF9D00#32
  | 5 => 0xBF563BE3#32
  | 6 => 0xBEBFE33E#32
  | 7 => 0xBF42A627#32
  | 8 => 0x3D3B4EDC#32
  | 9 => 0x408D89AF#32
  | 10 => 0x3F87DC72#32
  | 11 => 0x3E444CC7#32
  | 12 => 0x3EB75C5A#32
  | 13 => 0x3E3A8B14#32
  | 14 => 0x3E137AE3#32
  | 15 => 0x3E4C7CD8#32
  | 16 => 0x3FA712C2#32
  | 17 => 0x3FA15243#32
  | 18 => 0x3EE44A06#32
  | 19 => 0x3F708D06#32
  | 20 => 0xBEB449D6#32
  | 21 => 0xBF57BFA3#32
  | 22 => 0x3F7B78F6#32
  | 23 => 0x3FD8AE6E#32
  | 24 => 0xBE0416D5#32
  | 25 => 0x3EED8962#32
  | 26 => 0xBF526C9D#32
  | 27 => 0x3F8A80C6#32
  | 28 => 0x3F172C60#32
  | 29 => 0x4048EA74#32
  | 30 => 0x3FC62923#32
  | 31 => 0x3FD498BC#32
  | 32 => 0xBD5721CA#32
  | 33 => 0x3F57EB30#32
  | 34 => 0x3F05E7A4#32
  | 35 => 0xBEA528FA#32
  | 36 => 0x3F0675E0#32
  | 37 => 0x3F0F81FD#32
  | 38 => 0x3F5FA76F#32
  | 39 => 0xBD400731#32
  | 40 => 0x3FC18D4F#32
  | 41 => 0x3F8717CC#32
  | 42 => 0x405DDD48#32
  | 43 => 0xBF99237A#32
  | 44 => 0xBFCAD5C4#32
  | 45 => 0x3FC08D1C#32
  | 46 => 0x3FD817B2#32
  | 47 => 0x40146670#32
  | 48 => 0x400E09E6#32
  | 49 => 0xBF8AD329#32
  | 50 => 0xBEBFB13F#32
  | 51 => 0x400F1201#32
  | 52 => 0x3D0BC76E#32
  | 53 => 0x3B3926E4#32
  | 54 => 0xBC87F418#32
  | 55 => 0xBEEA655B#32
  | 56 => 0xBF8736F2#32
  | 57 => 0x3F0001B3#32
  | 58 => 0x3FDC9A15#32
  | 59 => 0x3E841F67#32
  | 60 => 0xBE4E6C70#32
  | 61 => 0x3F0589A0#32
  | 62 => 0x3FF83673#32
  | 63 => 0x3EB7EB81#32
  | 64 => 0x404CAE39#32
  | 65 => 0x4027784F#32
  | 66 => 0x3E3CDA3A#32
  | 67 => 0x3E7D178F#32
  | 68 => 0xBC6B5D24#32
  | 69 => 0x3F456862#32
  | 70 => 0x3D3C48F2#32
  | 71 => 0x3E4D9850#32
  | 72 => 0x4004AD4D#32
  | 73 => 0xBF0D5186#32
  | 74 => 0xBEC3E9ED#32
  | 75 => 0x3E15D53B#32
  | 76 => 0xBFB0AF3C#32
  | 77 => 0xBFE3B96B#32
  | 78 => 0x3FCF88DB#32
  | 79 => 0x3E682D4B#32
  | 80 => 0xBECF3400#32
  | 81 => 0x3F7E923E#32
  | 82 => 0x402F92B8#32
  | 83 => 0xBEEBD996#32
  | 84 => 0x3EBFE9DB#32
  | 85 => 0x4083E326#32
  | 86 => 0x3FEAE312#32
  | 87 => 0x3E4A9B8C#32
  | 88 => 0xBE81EBBB#32
  | 89 => 0x40045E72#32
  | 90 => 0x3E761EF4#32
  | 91 => 0x406E979A#32
  | 92 => 0x3F0F5205#32
  | 93 => 0x3F84C12D#32
  | 94 => 0xBFA74EC7#32
  | 95 => 0x3E9140A6#32
  | 96 => 0xBF019522#32
  | 97 => 0x3F975B5E#32
  | 98 => 0x3E8A83DB#32
  | 99 => 0xBF017137#32
  | 100 => 0x3F6AE16C#32
  | 101 => 0xBD635E11#32
  | 102 => 0x3C96CB81#32
  | 103 => 0x3FB9EA7B#32
  | 104 => 0x3EB70C7E#32
  | 105 => 0x3F402D35#32
  | 106 => 0x3EB25B1B#32
  | 107 => 0x3B447951#32
  | 108 => 0x3FFB9A5C#32
  | 109 => 0x4050E828#32
  | 110 => 0x40391899#32
  | 111 => 0x3F966A0B#32
  | 112 => 0x402806AB#32
  | 113 => 0x3D9748B9#32
  | 114 => 0xBF0A2EE0#32
  | 115 => 0x3F1C0AA6#32
  | 116 => 0x3FDFBC95#32
  | 117 => 0x3DF66F55#32
  | 118 => 0x408AF0D2#32
  | 119 => 0x3FFAB210#32
  | 120 => 0x3D81A535#32
  | 121 => 0x3F417772#32
  | 122 => 0x3EEE1CF1#32
  | 123 => 0x3F342FC8#32
  | 124 => 0x401802F7#32
  | 125 => 0x3F262412#32
  | 126 => 0x40B7FEAA#32
  | 127 => 0x3E52B03B#32
  | _ => 0#32

noncomputable abbrev lit0t0_842 (i : Nat) : BitVec 32 := match i % 128 with
  | 0 => 0x400A0DA2#32
  | 1 => 0x3FA12924#32
  | 2 => 0x3DC935E4#32
  | 3 => 0xBD6954DE#32
  | 4 => 0x401D1B2B#32
  | 5 => 0xBD732CEE#32
  | 6 => 0xBEFF4916#32
  | 7 => 0xBF0F6C4A#32
  | 8 => 0x3F09F42F#32
  | 9 => 0x3F2C3365#32
  | 10 => 0x4095BD40#32
  | 11 => 0xBD087898#32
  | 12 => 0x3FC100CF#32
  | 13 => 0x3D95A838#32
  | 14 => 0x3F0BE101#32
  | 15 => 0x3F5BFCE1#32
  | 16 => 0x401BAE41#32
  | 17 => 0x3E36FA5A#32
  | 18 => 0xBF963E40#32
  | 19 => 0xBF043164#32
  | 20 => 0x4062F026#32
  | 21 => 0x3F7D2344#32
  | 22 => 0x3F3345E8#32
  | 23 => 0x3FFDFD00#32
  | 24 => 0x3EC67129#32
  | 25 => 0x3E0A0DB0#32
  | 26 => 0xBF80893A#32
  | 27 => 0xBD2B4DCD#32
  | 28 => 0xBF6F699B#32
  | 29 => 0x3FB2CB9B#32
  | 30 => 0x3EA6ECEC#32
  | 31 => 0xBF3CB07E#32
  | 32 => 0x3F2C1D49#32
  | 33 => 0xBF8E1073#32
  | 34 => 0x3FE826BB#32
  | 35 => 0xBFC47167#32
  | 36 => 0xBEBA8D17#32
  | 37 => 0x3FADF175#32
  | 38 => 0xBE978820#32
  | 39 => 0xBF1A705D#32
  | 40 => 0xBF033B1C#32
  | 41 => 0xBEDB34DB#32
  | 42 => 0xBDACC4E7#32
  | 43 => 0x3E678D79#32
  | 44 => 0xBECE1C58#32
  | 45 => 0x3F779AC0#32
  | 46 => 0x3FA86B48#32
  | 47 => 0x4006BD73#32
  | 48 => 0x40518F70#32
  | 49 => 0xBE9E242D#32
  | 50 => 0x3FF7438C#32
  | 51 => 0x3EAF78A3#32
  | 52 => 0x3C6398D3#32
  | 53 => 0x3D279311#32
  | 54 => 0xBC9C1FB7#32
  | 55 => 0x400C94B8#32
  | 56 => 0xBFB18B46#32
  | 57 => 0xBFB68934#32
  | 58 => 0x4082EE2C#32
  | 59 => 0x3E9E8EB6#32
  | 60 => 0x3EB33A52#32
  | 61 => 0x3F3FAACD#32
  | 62 => 0xBF7862C2#32
  | 63 => 0xBFD1B74E#32
  | 64 => 0x3FAD7553#32
  | 65 => 0xBED73F4C#32
  | 66 => 0xBF9B8130#32
  | 67 => 0x3EB45378#32
  | 68 => 0x3F98299F#32
  | 69 => 0x3E86D300#32
  | 70 => 0xBFE12DE5#32
  | 71 => 0xC006E886#32
  | 72 => 0x3F95AE1B#32
  | 73 => 0xBF930286#32
  | 74 => 0xBF352295#32
  | 75 => 0x3F669A14#32
  | 76 => 0xBDFE3481#32
  | 77 => 0x3F83A272#32
  | 78 => 0xBF4103E3#32
  | 79 => 0xBD265ED2#32
  | 80 => 0x3E565D50#32
  | 81 => 0xBE490741#32
  | 82 => 0x4001FAC8#32
  | 83 => 0x3E2070A7#32
  | 84 => 0xBF8202BC#32
  | 85 => 0x40175B3D#32
  | 86 => 0x3ECBADC7#32
  | 87 => 0x4009A98C#32
  | 88 => 0xBF2B28D3#32
  | 89 => 0xBEFA5262#32
  | 90 => 0x3F4C924E#32
  | 91 => 0xBFAAA0F6#32
  | 92 => 0x3EB73C83#32
  | 93 => 0x3FE0963F#32
  | 94 => 0x3FBDDC28#32
  | 95 => 0x3F371B1E#32
  | 96 => 0x3FC9344E#32
  | 97 => 0x3F7B5733#32
  | 98 => 0xBF38FEB1#32
  | 99 => 0x3FD95C96#32
  | 100 => 0x3FAE0BED#32
  | 101 => 0xBF896AA7#32
  | 102 => 0x3D8B53E6#32
  | 103 => 0x3F07A283#32
  | 104 => 0x3EFD8AA5#32
  | 105 => 0x3F334651#32
  | 106 => 0x40024C98#32
  | 107 => 0xBF947A38#32
  | 108 => 0xBE3C1539#32
  | 109 => 0x3FC0ECAA#32
  | 110 => 0x3F8F8F24#32
  | 111 => 0x3EFD892F#32
  | 112 => 0xBEB29589#32
  | 113 => 0xBF48A879#32
  | 114 => 0x4096B93F#32
  | 115 => 0xBEB8FD8C#32
  | 116 => 0x3FA398C7#32
  | 117 => 0x3F071B58#32
  | 118 => 0xBF0C6DE6#32
  | 119 => 0xBF9E4B9E#32
  | 120 => 0x3EC1E793#32
  | 121 => 0x3EE9B90A#32
  | 122 => 0xBF0671E6#32
  | 123 => 0xBF2C288E#32
  | 124 => 0x3FE5376E#32
  | 125 => 0xBFAB6A58#32
  | 126 => 0x3F695299#32
  | 127 => 0x3F8D6356#32
  | _ => 0#32

noncomputable abbrev lit0t0_843 (i : Nat) : BitVec 32 := match i % 128 with
  | 0 => 0x3F4164C6#32
  | 1 => 0x40136459#32
  | 2 => 0xBF8791C4#32
  | 3 => 0xBEF0BE6E#32
  | 4 => 0x3F05BF1D#32
  | 5 => 0x3F99EC96#32
  | 6 => 0x3E306DC9#32
  | 7 => 0xBEAE0C17#32
  | 8 => 0x3FB1CC05#32
  | 9 => 0x3E3E8709#32
  | 10 => 0x3EC2A0C1#32
  | 11 => 0x3F482219#32
  | 12 => 0xBFC22E78#32
  | 13 => 0x3FF79470#32
  | 14 => 0x3E38839F#32
  | 15 => 0xBE0A652E#32
  | 16 => 0x3F2258A0#32
  | 17 => 0x40C74AA4#32
  | 18 => 0xBF444D6C#32
  | 19 => 0x3EA97EF0#32
  | 20 => 0x3F97EF6F#32
  | 21 => 0x3F8B400D#32
  | 22 => 0xBF2CEAC8#32
  | 23 => 0x4033C643#32
  | 24 => 0xBECA9655#32
  | 25 => 0x3D730102#32
  | 26 => 0x3F305E9C#32
  | 27 => 0x3F466625#32
  | 28 => 0x3F866DB8#32
  | 29 => 0xBEF9CE80#32
  | 30 => 0x3D875900#32
  | 31 => 0xBFBCAED3#32
  | 32 => 0xBF4E9A2A#32
  | 33 => 0x3FD714EF#32
  | 34 => 0x3D8A857D#32
  | 35 => 0x3F682373#32
  | 36 => 0xBFBF40E8#32
  | 37 => 0x402DA9D1#32
  | 38 => 0xBE8E383E#32
  | 39 => 0xBE55CEB8#32
  | 40 => 0x3F8370A9#32
  | 41 => 0x3FDCC570#32
  | 42 => 0xBF7DE5EE#32
  | 43 => 0x3F14B6C8#32
  | 44 => 0x4037E3D0#32
  | 45 => 0xBF5C9376#32
  | 46 => 0x3E9D964C#32
  | 47 => 0x3F81A566#32
  | 48 => 0xBF9DDA16#32
  | 49 => 0x3F150F5D#32
  | 50 => 0x3F413CE6#32
  | 51 => 0xBE5D51B6#32
  | 52 => 0x405CC88D#32
  | 53 => 0xBF35D47F#32
  | 54 => 0x3E0A226E#32
  | 55 => 0xBF89299E#32
  | 56 => 0x3F904E69#32
  | 57 => 0x3EE057C1#32
  | 58 => 0x3D28D2AD#32
  | 59 => 0xBF0CF054#32
  | 60 => 0x3D142F84#32
  | 61 => 0x3F90A476#32
  | 62 => 0xBF0DC7E2#32
  | 63 => 0x3FB5B787#32
  | 64 => 0x3F05E62F#32
  | 65 => 0x3FA219E1#32
  | 66 => 0x3FEB3EF8#32
  | 67 => 0xBEAE88B5#32
  | 68 => 0x3F096A4C#32
  | 69 => 0xBF5994EE#32
  | 70 => 0x3F6F03E0#32
  | 71 => 0xBF33D140#32
  | 72 => 0x3FE43FB2#32
  | 73 => 0x40366EA2#32
  | 74 => 0x3F2ACD2C#32
  | 75 => 0x3FB206CD#32
  | 76 => 0x3FDCDCD6#32
  | 77 => 0xBC802BF8#32
  | 78 => 0x3F91195C#32
  | 79 => 0x3FBB6086#32
  | 80 => 0xBDB81730#32
  | 81 => 0x3E4D1D22#32
  | 82 => 0xBEAB84FF#32
  | 83 => 0xBE1F451C#32
  | 84 => 0x3FB51335#32
  | 85 => 0x3EB3985D#32
  | 86 => 0x3F0C853B#32
  | 87 => 0x3FBBFB4D#32
  | 88 => 0x3E80529B#32
  | 89 => 0xBEA164DB#32
  | 90 => 0xBEA05CC8#32
  | 91 => 0x3F6E3586#32
  | 92 => 0x3E91E5E8#32
  | 93 => 0x40091825#32
  | 94 => 0x4007F81E#32
  | 95 => 0xBF3B3582#32
  | 96 => 0xBECC06FA#32
  | 97 => 0x3FA1853C#32
  | 98 => 0x3DE9A5AE#32
  | 99 => 0xBF691036#32
  | 100 => 0x3FF17252#32
  | 101 => 0x3CD02DF8#32
  | 102 => 0x3E503331#32
  | 103 => 0x3F5D8190#32
  | 104 => 0x40267A95#32
  | 105 => 0xBE7FE01F#32
  | 106 => 0xBF66F042#32
  | 107 => 0x3EB8D606#32
  | 108 => 0x3F5AB265#32
  | 109 => 0x407569FE#32
  | 110 => 0x3F8F4CA3#32
  | 111 => 0x3F13E5E3#32
  | 112 => 0x4081DE23#32
  | 113 => 0x3F8B95D1#32
  | 114 => 0x3F94C672#32
  | 115 => 0x4019AFF5#32
  | 116 => 0x3F9107EE#32
  | 117 => 0x3F25DDCC#32
  | 118 => 0x3FECA1CB#32
  | 119 => 0xBDAE7F8D#32
  | 120 => 0x3FD2C4A2#32
  | 121 => 0x3FC1DA41#32
  | 122 => 0xBF90C888#32
  | 123 => 0x3D2F86C1#32
  | 124 => 0xBEACDFF8#32
  | 125 => 0xBED1795B#32
  | 126 => 0x3E77694E#32
  | 127 => 0xBFD846AF#32
  | _ => 0#32

noncomputable abbrev lit0t0_844 (i : Nat) : BitVec 32 := match i % 128 with
  | 0 => 0x3E8EFBAE#32
  | 1 => 0x4001CCAC#32
  | 2 => 0x401872DE#32
  | 3 => 0x3F722CCB#32
  | 4 => 0x3F9D824C#32
  | 5 => 0x3E9161B3#32
  | 6 => 0xBF8CCBDB#32
  | 7 => 0x3FC1474B#32
  | 8 => 0x3F6DB273#32
  | 9 => 0xBEC30CCC#32
  | 10 => 0x3EE0E964#32
  | 11 => 0xBE90AEBC#32
  | 12 => 0x3E205BF1#32
  | 13 => 0x3FDFB092#32
  | 14 => 0x4022DE72#32
  | 15 => 0xBF1496EF#32
  | 16 => 0x3DC85DA1#32
  | 17 => 0x3EA5618A#32
  | 18 => 0x3F588241#32
  | 19 => 0x3FAC2C7E#32
  | 20 => 0x3EC99482#32
  | 21 => 0x3F97578F#32
  | 22 => 0xBEF40AB6#32
  | 23 => 0x400E2E76#32
  | 24 => 0x3FA59934#32
  | 25 => 0xBF6A0296#32
  | 26 => 0x3E304E15#32
  | 27 => 0x3F8F4578#32
  | 28 => 0xBEF2C9CC#32
  | 29 => 0xBDAD4A8F#32
  | 30 => 0xBF8B0889#32
  | 31 => 0x3F7B593B#32
  | 32 => 0xBF34A9CB#32
  | 33 => 0x4013E959#32
  | 34 => 0xBF3897E3#32
  | 35 => 0x3F9DE33A#32
  | 36 => 0xBD206647#32
  | 37 => 0xBF18B3AA#32
  | 38 => 0x40A62741#32
  | 39 => 0x3E131108#32
  | 40 => 0xBE1BEC28#32
  | 41 => 0xBF3A19F7#32
  | 42 => 0xBF92788C#32
  | 43 => 0xBDCD0D92#32
  | 44 => 0x3FCBDED3#32
  | 45 => 0x3FEE602E#32
  | 46 => 0xBF64A79A#32
  | 47 => 0x3FB88C63#32
  | 48 => 0x4099C4A5#32
  | 49 => 0xBFB33048#32
  | 50 => 0xBEA6B65E#32
  | 51 => 0x3F49BE8B#32
  | 52 => 0xBE3B3924#32
  | 53 => 0x3FC3E96A#32
  | 54 => 0x3F9A7DEE#32
  | 55 => 0x4001325B#32
  | 56 => 0x3FB32ECA#32
  | 57 => 0x3F2228DD#32
  | 58 => 0xBE68616F#32
  | 59 => 0x3C997119#32
  | 60 => 0xBF39E455#32
  | 61 => 0x3DC27ECE#32
  | 62 => 0x4008A8A9#32
  | 63 => 0x3FE5F480#32
  | 64 => 0x3E598D54#32
  | 65 => 0x3F071ADC#32
  | 66 => 0xBF5BD034#32
  | 67 => 0x3EBA4B69#32
  | 68 => 0xBEA7361D#32
  | 69 => 0x3FE045BC#32
  | 70 => 0x3EA114BA#32
  | 71 => 0x3E8A8122#32
  | 72 => 0x3F13EEBE#32
  | 73 => 0x3F9A7827#32
  | 74 => 0x3F1ABA0F#32
  | 75 => 0x3F98B21C#32
  | 76 => 0x3FD2B578#32
  | 77 => 0xBEDD230F#32
  | 78 => 0x3FF1737E#32
  | 79 => 0xBF58F448#32
  | 80 => 0x3FA079ED#32
  | 81 => 0x3FD9B598#32
  | 82 => 0xBEED9F52#32
  | 83 => 0xBF6C09D6#32
  | 84 => 0x3E9A58B8#32
  | 85 => 0x402996BD#32
  | 86 => 0x3F281567#32
  | 87 => 0xBF690BF2#32
  | 88 => 0x40A2C487#32
  | 89 => 0xBEAE76C0#32
  | 90 => 0x4002E64B#32
  | 91 => 0x3FC22238#32
  | 92 => 0x3EA93FFD#32
  | 93 => 0xBE33DAEB#32
  | 94 => 0x3E878C6B#32
  | 95 => 0x3F16B226#32
  | 96 => 0xBF28F5CB#32
  | 97 => 0x3F151EB2#32
  | 98 => 0xBF2FD72B#32
  | 99 => 0x3F7A3ED6#32
  | 100 => 0x3EAB1105#32
  | 101 => 0xBFBC3DEA#32
  | 102 => 0x3C266390#32
  | 103 => 0xBF7DF7F8#32
  | 104 => 0xBF0CD943#32
  | 105 => 0x3FE44C27#32
  | 106 => 0x3EA92E1B#32
  | 107 => 0x40732601#32
  | 108 => 0x3FC36DCC#32
  | 109 => 0xBF9746CF#32
  | 110 => 0xBF3C2E75#32
  | 111 => 0x3F4A40BF#32
  | 112 => 0x3FC72ABE#32
  | 113 => 0xBE295F21#32
  | 114 => 0xBEBC8F3C#32
  | 115 => 0x3E0A0F7F#32
  | 116 => 0xBF5AA0FC#32
  | 117 => 0xBF5FE4F6#32
  | 118 => 0xBE6EAD8D#32
  | 119 => 0xBB5596CD#32
  | 120 => 0x3F66404C#32
  | 121 => 0x3F42F485#32
  | 122 => 0x3D5DB200#32
  | 123 => 0x3FEE56C8#32
  | 124 => 0x3EED0384#32
  | 125 => 0xBDF1BE1A#32
  | 126 => 0x3E443E9B#32
  | 127 => 0x3F746ACE#32
  | _ => 0#32

noncomputable abbrev lit0t0_845 (i : Nat) : BitVec 32 := match i % 128 with
  | 0 => 0xBC70FA18#32
  | 1 => 0x3F77E904#32
  | 2 => 0x3F85858C#32
  | 3 => 0x3F5E8821#32
  | 4 => 0x400DD40C#32
  | 5 => 0xBF79F39A#32
  | 6 => 0xBD356AC4#32
  | 7 => 0x3FFB1A51#32
  | 8 => 0xBE6136C5#32
  | 9 => 0x406067BE#32
  | 10 => 0xBF153BDE#32
  | 11 => 0xBF0BA27D#32
  | 12 => 0xBFCCCD79#32
  | 13 => 0x3F2B026F#32
  | 14 => 0x405FF770#32
  | 15 => 0x3E94D8DD#32
  | 16 => 0x3E6519ED#32
  | 17 => 0x4088D0E8#32
  | 18 => 0xBC03EFA4#32
  | 19 => 0x40178C09#32
  | 20 => 0xBF96B968#32
  | 21 => 0xBEF3C3C5#32
  | 22 => 0xBFC3B246#32
  | 23 => 0xBEA82A0D#32
  | 24 => 0x4090095E#32
  | 25 => 0x4011171F#32
  | 26 => 0x3FA69AF8#32
  | 27 => 0xBE27B652#32
  | 28 => 0xBD62F2CE#32
  | 29 => 0xBED6072F#32
  | 30 => 0x3EBC9E5B#32
  | 31 => 0x3F4EC381#32
  | 32 => 0xBEBA028E#32
  | 33 => 0x3E5CFC18#32
  | 34 => 0xBF90ED00#32
  | 35 => 0x3FAED87C#32
  | 36 => 0xBEC7A4E1#32
  | 37 => 0x3FE619B7#32
  | 38 => 0xBEB2088D#32
  | 39 => 0x3FC7CA57#32
  | 40 => 0xBD5DA465#32
  | 41 => 0x3CF44834#32
  | 42 => 0x3F7543FA#32
  | 43 => 0xBF938215#32
  | 44 => 0xBF7901FA#32
  | 45 => 0x3EFEB9D1#32
  | 46 => 0x3F1BA36D#32
  | 47 => 0xBF7ED119#32
  | 48 => 0x3F5E11BD#32
  | 49 => 0x3FF97EEC#32
  | 50 => 0x403D0DB0#32
  | 51 => 0x3F6FE66C#32
  | 52 => 0xBF57D5B6#32
  | 53 => 0xBFCDA6F8#32
  | 54 => 0x406A761A#32
  | 55 => 0x3FFB5032#32
  | 56 => 0x4007C8A3#32
  | 57 => 0x3E95C437#32
  | 58 => 0xBF42FD07#32
  | 59 => 0x3EC681E6#32
  | 60 => 0x40025042#32
  | 61 => 0x3F8189F9#32
  | 62 => 0xBF040113#32
  | 63 => 0x408E8A46#32
  | 64 => 0x400EFABF#32
  | 65 => 0x3F2759C2#32
  | 66 => 0xBEE53516#32
  | 67 => 0x3FBAB271#32
  | 68 => 0x3E9130BE#32
  | 69 => 0xBF778818#32
  | 70 => 0x40024413#32
  | 71 => 0xBEB54449#32
  | 72 => 0x4046D57D#32
  | 73 => 0x3FE98784#32
  | 74 => 0xBFA9A701#32
  | 75 => 0xBFBF28C7#32
  | 76 => 0xBF15147D#32
  | 77 => 0x3B2C7409#32
  | 78 => 0x3E00CE95#32
  | 79 => 0xBD69DD97#32
  | 80 => 0x40412D22#32
  | 81 => 0x3FCE6021#32
  | 82 => 0x3FA43352#32
  | 83 => 0xBD88CC85#32
  | 84 => 0xBE9C3FE0#32
  | 85 => 0x3E9030DF#32
  | 86 => 0xBC4F05C1#32
  | 87 => 0x3FBBD91A#32
  | 88 => 0x401E6EF3#32
  | 89 => 0xBF35AAD4#32
  | 90 => 0x3E635E54#32
  | 91 => 0x4055E3CA#32
  | 92 => 0x3FD423F6#32
  | 93 => 0xBD2A94CF#32
  | 94 => 0x3E38FE34#32
  | 95 => 0x3FCD905F#32
  | 96 => 0xBE313097#32
  | 97 => 0x3FC57D19#32
  | 98 => 0xBF10C40A#32
  | 99 => 0xBFA44F26#32
  | 100 => 0xBE418652#32
  | 101 => 0x3F94BCCC#32
  | 102 => 0x3F616405#32
  | 103 => 0x3FADE8F3#32
  | 104 => 0x3F0881B8#32
  | 105 => 0xBE8A7BF5#32
  | 106 => 0xBC449954#32
  | 107 => 0x3F08EC03#32
  | 108 => 0xBF465A8C#32
  | 109 => 0xBFA6D62B#32
  | 110 => 0xBF8B5FBA#32
  | 111 => 0x3FEDC766#32
  | 112 => 0x40904D30#32
  | 113 => 0x3C18CEDB#32
  | 114 => 0xBE9A2BEE#32
  | 115 => 0xBE555BAE#32
  | 116 => 0xBFA49F51#32
  | 117 => 0x3F1225BB#32
  | 118 => 0x3F2796C5#32
  | 119 => 0x400A18B6#32
  | 120 => 0xBF7F03FD#32
  | 121 => 0xBDD301DA#32
  | 122 => 0xBEE0D787#32
  | 123 => 0x3F0AD575#32
  | 124 => 0xBF5BA1C7#32
  | 125 => 0x4031DFC9#32
  | 126 => 0xBF2F1A1F#32
  | 127 => 0xBF3E9B4A#32
  | _ => 0#32

noncomputable abbrev lit0t0_846 (i : Nat) : BitVec 32 := match i % 128 with
  | 0 => 0x3FA15E44#32
  | 1 => 0xBF11EEDC#32
  | 2 => 0xBEC8ACD2#32
  | 3 => 0x3F240D8A#32
  | 4 => 0x3E35A9D3#32
  | 5 => 0xBD15D607#32
  | 6 => 0x3F595068#32
  | 7 => 0x3FC56E52#32
  | 8 => 0xBEA7FA6B#32
  | 9 => 0xBC2146A1#32
  | 10 => 0xBE9C20CA#32
  | 11 => 0x40892D49#32
  | 12 => 0x3F4A258A#32
  | 13 => 0x3F920224#32
  | 14 => 0x3E338EF9#32
  | 15 => 0x3FE28CE8#32
  | 16 => 0x3F686978#32
  | 17 => 0xBEE17AC5#32
  | 18 => 0x3F575357#32
  | 19 => 0xBF1A2549#32
  | 20 => 0xBF74B0B6#32
  | 21 => 0xBFA9F9CC#32
  | 22 => 0x40CE8913#32
  | 23 => 0xBF81A5EE#32
  | 24 => 0x3E45A486#32
  | 25 => 0xBEC78E6A#32
  | 26 => 0xBD712992#32
  | 27 => 0x3EEF89A8#32
  | 28 => 0xBF847243#32
  | 29 => 0x3F043DE4#32
  | 30 => 0x402857FE#32
  | 31 => 0x3EF425A8#32
  | 32 => 0x3F0B038F#32
  | 33 => 0x3CAA6713#32
  | 34 => 0xBE4F67CE#32
  | 35 => 0x3D7D7EC4#32
  | 36 => 0x3F52CDF9#32
  | 37 => 0xBF404A94#32
  | 38 => 0x3E61FBEC#32
  | 39 => 0x401D5DE7#32
  | 40 => 0x3F341990#32
  | 41 => 0x3E896DFE#32
  | 42 => 0xBFAD7F3A#32
  | 43 => 0x3E80929D#32
  | 44 => 0x3DBE4C67#32
  | 45 => 0x3EB95A98#32
  | 46 => 0x3FFDF514#32
  | 47 => 0x3F349765#32
  | 48 => 0xBF63513E#32
  | 49 => 0x3EF9DA9E#32
  | 50 => 0xBD9EF07E#32
  | 51 => 0x406A7C0A#32
  | 52 => 0xBE9AC3A2#32
  | 53 => 0xBDBE3BE1#32
  | 54 => 0x3F888265#32
  | 55 => 0xBCCE01CC#32
  | 56 => 0x3F40ED55#32
  | 57 => 0xBD27A5F5#32
  | 58 => 0x3F8CA454#32
  | 59 => 0x3F2BD0F2#32
  | 60 => 0xBEB97694#32
  | 61 => 0x40B2310D#32
  | 62 => 0xBF163A06#32
  | 63 => 0xBED37CB8#32
  | 64 => 0x3E5F59E7#32
  | 65 => 0xBF1934DB#32
  | 66 => 0xBF859947#32
  | 67 => 0x4004958B#32
  | 68 => 0x3F9D1202#32
  | 69 => 0x3E138937#32
  | 70 => 0x3DAE3F6B#32
  | 71 => 0x3FF641B5#32
  | 72 => 0x3F593F20#32
  | 73 => 0xBF0BEE9D#32
  | 74 => 0xBE45B50E#32
  | 75 => 0x3EF093F4#32
  | 76 => 0x3F02DF32#32
  | 77 => 0xBEA9AB11#32
  | 78 => 0x3FD7BD30#32
  | 79 => 0x3FDEF2D9#32
  | 80 => 0x3F863812#32
  | 81 => 0x3FC87C58#32
  | 82 => 0xBD62139F#32
  | 83 => 0xBE427D6D#32
  | 84 => 0x3F93EDAF#32
  | 85 => 0x3F3AF84F#32
  | 86 => 0x3FE2DC15#32
  | 87 => 0x40048E5B#32
  | 88 => 0x3EA7CD9C#32
  | 89 => 0x3DC6879C#32
  | 90 => 0xBF49B340#32
  | 91 => 0xBF62A58C#32
  | 92 => 0x3EA3804D#32
  | 93 => 0x40521739#32
  | 94 => 0xBF904B76#32
  | 95 => 0x3F5B2307#32
  | 96 => 0x3E876D18#32
  | 97 => 0x3EAD73FB#32
  | 98 => 0x3E3CE9B0#32
  | 99 => 0x3FF640CE#32
  | 100 => 0x3F85F92E#32
  | 101 => 0x400760EF#32
  | 102 => 0x3EDD8D6A#32
  | 103 => 0xBF85337A#32
  | 104 => 0x3F89F625#32
  | 105 => 0x3E3D27EA#32
  | 106 => 0xBEA5C29B#32
  | 107 => 0x3F4C4B83#32
  | 108 => 0x3F99E309#32
  | 109 => 0x3EFC458C#32
  | 110 => 0x3F2F3E27#32
  | 111 => 0x3E87AF28#32
  | 112 => 0x3F06041C#32
  | 113 => 0x3F0F8274#32
  | 114 => 0xBE9258C3#32
  | 115 => 0x40046D88#32
  | 116 => 0x4039C73F#32
  | 117 => 0x3FAF30F2#32
  | 118 => 0x3FD06060#32
  | 119 => 0x3F32B278#32
  | 120 => 0xBF335CC9#32
  | 121 => 0x4054DB4A#32
  | 122 => 0x3EEF9874#32
  | 123 => 0xBF46BC56#32
  | 124 => 0xBE0D2AEF#32
  | 125 => 0x3EAAE10F#32
  | 126 => 0xBEB5171A#32
  | 127 => 0xBDB88259#32
  | _ => 0#32

noncomputable abbrev lit0t0_847 (i : Nat) : BitVec 32 := match i % 128 with
  | 0 => 0x3F50B867#32
  | 1 => 0x3F270B31#32
  | 2 => 0x3FF1EA6D#32
  | 3 => 0xBF53435C#32
  | 4 => 0xBF341E45#32
  | 5 => 0x3FDAB05C#32
  | 6 => 0x3F9CCE38#32
  | 7 => 0x3F4102A0#32
  | 8 => 0xBEB6EF76#32
  | 9 => 0x3D09EBC4#32
  | 10 => 0x403F8551#32
  | 11 => 0xBEEAD7F6#32
  | 12 => 0x3EE87E48#32
  | 13 => 0x402EB76C#32
  | 14 => 0x3FD5DFEF#32
  | 15 => 0xBEB8D931#32
  | 16 => 0x402424E2#32
  | 17 => 0x3F83D2B8#32
  | 18 => 0xBEF9BDA0#32
  | 19 => 0x3FEB855D#32
  | 20 => 0xBE0F95B9#32
  | 21 => 0x3F904732#32
  | 22 => 0x3FDD36FF#32
  | 23 => 0x3FC4E849#32
  | 24 => 0x3EBA5784#32
  | 25 => 0x3EC2DF90#32
  | 26 => 0x3F0D298A#32
  | 27 => 0xBDC38DFA#32
  | 28 => 0x3E5F19CE#32
  | 29 => 0xBEB99BC5#32
  | 30 => 0x3EDD6C84#32
  | 31 => 0xBF1E90C6#32
  | 32 => 0x3E934C44#32
  | 33 => 0xBE5EFA03#32
  | 34 => 0xBFA1944B#32
  | 35 => 0x3ECE79D2#32
  | 36 => 0x3E6D94B0#32
  | 37 => 0xBF39B932#32
  | 38 => 0x3F0D7020#32
  | 39 => 0x4038B457#32
  | 40 => 0x40049DBE#32
  | 41 => 0x3F3F96DE#32
  | 42 => 0x3FC806FA#32
  | 43 => 0xBF372381#32
  | 44 => 0xBF1AA744#32
  | 45 => 0xBF32B72B#32
  | 46 => 0xBEA2E5C5#32
  | 47 => 0x3FCE8CA6#32
  | 48 => 0x3DF8B097#32
  | 49 => 0x3ED111EA#32
  | 50 => 0x3FC0BE80#32
  | 51 => 0xBF45DE80#32
  | 52 => 0xBD94D114#32
  | 53 => 0x3D9954B7#32
  | 54 => 0x3F5E9DE0#32
  | 55 => 0x3F27D139#32
  | 56 => 0xBF3F9EF5#32
  | 57 => 0x3FACE806#32
  | 58 => 0x3F676EBA#32
  | 59 => 0x3D1686A9#32
  | 60 => 0x3F2BB335#32
  | 61 => 0xBE8DFB2E#32
  | 62 => 0xBE9603CA#32
  | 63 => 0x3FDC863A#32
  | 64 => 0xBE9F598F#32
  | 65 => 0x3EABE4C5#32
  | 66 => 0x3FE4E17C#32
  | 67 => 0xBF395DE1#32
  | 68 => 0x3FED9AA1#32
  | 69 => 0xBB8E1409#32
  | 70 => 0x3F855D62#32
  | 71 => 0xBF1B1CA5#32
  | 72 => 0x40905ECA#32
  | 73 => 0x4006CFE1#32
  | 74 => 0x3E256662#32
  | 75 => 0x3FF9A588#32
  | 76 => 0xBED2B750#32
  | 77 => 0xBE5A3F0C#32
  | 78 => 0x3FCC36A0#32
  | 79 => 0x3FAD51A4#32
  | 80 => 0xBF892F00#32
  | 81 => 0x3FA7B6F1#32
  | 82 => 0x4075C904#32
  | 83 => 0x3E7CB1B0#32
  | 84 => 0x4009D993#32
  | 85 => 0x4052D4BF#32
  | 86 => 0x3F92F360#32
  | 87 => 0xBFDC2B1F#32
  | 88 => 0x3E5AD9D4#32
  | 89 => 0xBD06647C#32
  | 90 => 0x3FDA70A4#32
  | 91 => 0x40200B0C#32
  | 92 => 0xBE91A4BA#32
  | 93 => 0x3F96AD6D#32
  | 94 => 0xBFD98492#32
  | 95 => 0xBF7154E0#32
  | 96 => 0x3EAB63DA#32
  | 97 => 0x3EC49E07#32
  | 98 => 0x40316FAB#32
  | 99 => 0x3F801828#32
  | 100 => 0xBFC6D318#32
  | 101 => 0x3F132563#32
  | 102 => 0xBF090116#32
  | 103 => 0x3F4366F6#32
  | 104 => 0xBF8D730C#32
  | 105 => 0x3F3C3C70#32
  | 106 => 0x3F0B593D#32
  | 107 => 0xBF3E71A7#32
  | 108 => 0x40539B34#32
  | 109 => 0x3F976EFD#32
  | 110 => 0x3F21D061#32
  | 111 => 0xBF8A86C6#32
  | 112 => 0x3FA55524#32
  | 113 => 0xBF09566D#32
  | 114 => 0x3E986EC8#32
  | 115 => 0xBF4E06FF#32
  | 116 => 0x3F007DF7#32
  | 117 => 0x4049FAB6#32
  | 118 => 0xBF5CC649#32
  | 119 => 0x3F31D063#32
  | 120 => 0x3F837AD2#32
  | 121 => 0xBF779172#32
  | 122 => 0xBEFAB662#32
  | 123 => 0x3FA6D36D#32
  | 124 => 0xBF5247D8#32
  | 125 => 0x3F7B0C86#32
  | 126 => 0xBE1138D8#32
  | 127 => 0x3C2702AC#32
  | _ => 0#32

noncomputable abbrev lit0t0_848 (i : Nat) : BitVec 32 := match i % 128 with
  | 0 => 0xBF1FEAAF#32
  | 1 => 0xBFA096C6#32
  | 2 => 0xBF24539A#32
  | 3 => 0x3E90612E#32
  | 4 => 0xBF853E28#32
  | 5 => 0x3E94D2E9#32
  | 6 => 0x3E9911E0#32
  | 7 => 0xBECA7FFD#32
  | 8 => 0x3FCE9CE2#32
  | 9 => 0x3FF491FB#32
  | 10 => 0x3FD8F28B#32
  | 11 => 0x3F0A53FF#32
  | 12 => 0xBE8119DB#32
  | 13 => 0x3E91620D#32
  | 14 => 0xBDCABD8C#32
  | 15 => 0x400B7774#32
  | 16 => 0x3F909134#32
  | 17 => 0x3FF52E76#32
  | 18 => 0x3F7265D3#32
  | 19 => 0xBF802FFC#32
  | 20 => 0xBF179402#32
  | 21 => 0x3EA974AE#32
  | 22 => 0xBF13BFBF#32
  | 23 => 0xBF448D42#32
  | 24 => 0x3FB3C98E#32
  | 25 => 0xBFB0C84E#32
  | 26 => 0xBF60F6D1#32
  | 27 => 0x3E9BE3B5#32
  | 28 => 0xBFA37AF9#32
  | 29 => 0xBEBE2818#32
  | 30 => 0xBF6F69E2#32
  | 31 => 0xBE977D07#32
  | 32 => 0x3F2A616C#32
  | 33 => 0xBEB7604C#32
  | 34 => 0x405DD8A3#32
  | 35 => 0x3C8766C4#32
  | 36 => 0x3FB87BED#32
  | 37 => 0xBF929834#32
  | 38 => 0x3EC7B318#32
  | 39 => 0xBF2AA464#32
  | 40 => 0xBED89467#32
  | 41 => 0xBF7B05DA#32
  | 42 => 0xBF47EA45#32
  | 43 => 0x40102354#32
  | 44 => 0x3F25E206#32
  | 45 => 0x3C6579FD#32
  | 46 => 0x3F6A4F9D#32
  | 47 => 0x3F88A378#32
  | 48 => 0x3F8250C4#32
  | 49 => 0x3F877E9A#32
  | 50 => 0x40042E07#32
  | 51 => 0x3EDFAEF7#32
  | 52 => 0x3FAE99CF#32
  | 53 => 0x401D5C10#32
  | 54 => 0x3E98F65C#32
  | 55 => 0x3F42E95D#32
  | 56 => 0x4013AAA9#32
  | 57 => 0x3E9B638A#32
  | 58 => 0x40519571#32
  | 59 => 0x3DC0BFED#32
  | 60 => 0xBECE1013#32
  | 61 => 0x400E54C8#32
  | 62 => 0x3FCAAD98#32
  | 63 => 0x3E7038FA#32
  | 64 => 0x3F55E5CB#32
  | 65 => 0x3E527F18#32
  | 66 => 0x40556284#32
  | 67 => 0x4000A463#32
  | 68 => 0xBF81FA75#32
  | 69 => 0xBD05F39F#32
  | 70 => 0x3EEBFBE8#32
  | 71 => 0x3E8979AC#32
  | 72 => 0x3FB99D16#32
  | 73 => 0x400DB5F2#32
  | 74 => 0x401BE200#32
  | 75 => 0x3F596DC3#32
  | 76 => 0xBF785D6A#32
  | 77 => 0x3FC493D1#32
  | 78 => 0x40152E35#32
  | 79 => 0x402A0E65#32
  | 80 => 0x3DB4BA86#32
  | 81 => 0x3F318624#32
  | 82 => 0x3F1782CD#32
  | 83 => 0x3F66FB44#32
  | 84 => 0x4004A7E1#32
  | 85 => 0xBEB7D004#32
  | 86 => 0x3FF207A4#32
  | 87 => 0xBCD9BE91#32
  | 88 => 0x3F8769BA#32
  | 89 => 0x3F999A60#32
  | 90 => 0x4025F2DA#32
  | 91 => 0x40072423#32
  | 92 => 0x3DFE3C40#32
  | 93 => 0xBF30922B#32
  | 94 => 0xBDDA3200#32
  | 95 => 0x3F41BBB4#32
  | 96 => 0x3E44B849#32
  | 97 => 0x402120A1#32
  | 98 => 0x40291515#32
  | 99 => 0xBFA62042#32
  | 100 => 0xBF9D5877#32
  | 101 => 0x3F4EA219#32
  | 102 => 0x3FC38431#32
  | 103 => 0x40064B5B#32
  | 104 => 0x3E4D5021#32
  | 105 => 0x4002BC75#32
  | 106 => 0xBDF8B311#32
  | 107 => 0x3F0579BC#32
  | 108 => 0x3F503AAF#32
  | 109 => 0x3F07A803#32
  | 110 => 0x402BE4FA#32
  | 111 => 0x3F6868A0#32
  | 112 => 0xBEE38DA6#32
  | 113 => 0x3FC4A076#32
  | 114 => 0x3E3FB15B#32
  | 115 => 0x4018E66E#32
  | 116 => 0xBEC54213#32
  | 117 => 0xBF1E5CCC#32
  | 118 => 0xBF1196D7#32
  | 119 => 0x3CD55CED#32
  | 120 => 0xBF673D14#32
  | 121 => 0xBF77B07E#32
  | 122 => 0xBF8014CE#32
  | 123 => 0x404D4BA1#32
  | 124 => 0xBF4C8285#32
  | 125 => 0x3FA9DC1B#32
  | 126 => 0x3F0D69C7#32
  | 127 => 0x3EA66607#32
  | _ => 0#32

noncomputable abbrev lit0t0_849 (i : Nat) : BitVec 32 := match i % 128 with
  | 0 => 0xBE3A1388#32
  | 1 => 0x3F45F296#32
  | 2 => 0x3C380C67#32
  | 3 => 0xBE305C50#32
  | 4 => 0x3EDEAB6E#32
  | 5 => 0xBD4858F3#32
  | 6 => 0x3F5B0DEF#32
  | 7 => 0xBECD80B9#32
  | 8 => 0x3F2C23AF#32
  | 9 => 0x3D7700E5#32
  | 10 => 0x400099AC#32
  | 11 => 0x3FBC2E24#32
  | 12 => 0x3FA3C13E#32
  | 13 => 0x4016682B#32
  | 14 => 0x3F60230A#32
  | 15 => 0xBF997FDD#32
  | 16 => 0xBE21E018#32
  | 17 => 0xBEACBB1F#32
  | 18 => 0xBEDD302A#32
  | 19 => 0xBD9EA55C#32
  | 20 => 0x3F9FD3C5#32
  | 21 => 0x3F6DFACC#32
  | 22 => 0xBABDECC2#32
  | 23 => 0xBF32EF5C#32
  | 24 => 0x4020D692#32
  | 25 => 0x40274DEF#32
  | 26 => 0x40B92106#32
  | 27 => 0xBFBA8AE5#32
  | 28 => 0x3F19781F#32
  | 29 => 0x3F352E4B#32
  | 30 => 0x3F53B20A#32
  | 31 => 0x3FFF2B70#32
  | 32 => 0x40085985#32
  | 33 => 0x3DABE07D#32
  | 34 => 0xBFD73C7C#32
  | 35 => 0x3EAF66D3#32
  | 36 => 0xBFA9F0ED#32
  | 37 => 0xBDB95D0E#32
  | 38 => 0xBF90C17D#32
  | 39 => 0x3EE42D76#32
  | 40 => 0x3FF2B154#32
  | 41 => 0x3FA3A152#32
  | 42 => 0x3F50C373#32
  | 43 => 0xBF14DB5B#32
  | 44 => 0x3D91E76D#32
  | 45 => 0x3EA04FE2#32
  | 46 => 0xBF33AB8F#32
  | 47 => 0x3FF05265#32
  | 48 => 0x40292EA1#32
  | 49 => 0xBD446FC3#32
  | 50 => 0xBE0ED2E7#32
  | 51 => 0xBF671F41#32
  | 52 => 0x4027235E#32
  | 53 => 0x3FFD572A#32
  | 54 => 0x3F0A352A#32
  | 55 => 0xBF8FBBC6#32
  | 56 => 0xBD536C0D#32
  | 57 => 0x3E502E13#32
  | 58 => 0x3FBCAF32#32
  | 59 => 0xBEB482E9#32
  | 60 => 0x3FC7FD0C#32
  | 61 => 0x4060FF9B#32
  | 62 => 0xBF9D9B78#32
  | 63 => 0x4006224D#32
  | 64 => 0x3F4DB7AE#32
  | 65 => 0x3F09B2D9#32
  | 66 => 0x3FBDAC35#32
  | 67 => 0xBE063238#32
  | 68 => 0x3F0EBB07#32
  | 69 => 0x3FA5C019#32
  | 70 => 0x406EF137#32
  | 71 => 0x3EE97D3E#32
  | 72 => 0xBFAA7744#32
  | 73 => 0x3E8DA045#32
  | 74 => 0x3F1A061C#32
  | 75 => 0xBEF3E3D0#32
  | 76 => 0x4000C548#32
  | 77 => 0xBE9E92BA#32
  | 78 => 0x3EBEFAB9#32
  | 79 => 0xBF00C4F4#32
  | 80 => 0x3F460570#32
  | 81 => 0x3F8F0BE6#32
  | 82 => 0xBF3518B6#32
  | 83 => 0x3F3FBC1D#32
  | 84 => 0x400D9563#32
  | 85 => 0x3E34DD3A#32
  | 86 => 0x4010DFDE#32
  | 87 => 0x3FADAE2A#32
  | 88 => 0x3F94B459#32
  | 89 => 0x3E41F0DE#32
  | 90 => 0x405052B2#32
  | 91 => 0x3F22E8B4#32
  | 92 => 0x3E969815#32
  | 93 => 0xBF07BA6A#32
  | 94 => 0x3FFCD349#32
  | 95 => 0xBF025400#32
  | 96 => 0x3D531511#32
  | 97 => 0x3F10DF6E#32
  | 98 => 0x3F6E3C14#32
  | 99 => 0x40923DAC#32
  | 100 => 0x3F7C343E#32
  | 101 => 0x3F0C7064#32
  | 102 => 0xBF083E82#32
  | 103 => 0x3E303C3E#32
  | 104 => 0xBD63E6DF#32
  | 105 => 0x3F995DB7#32
  | 106 => 0xBFD2E02B#32
  | 107 => 0x3F19801B#32
  | 108 => 0x409BB9EB#32
  | 109 => 0xBF46D45A#32
  | 110 => 0x3FC09D03#32
  | 111 => 0xBEC32700#32
  | 112 => 0x3EC05884#32
  | 113 => 0x3F809918#32
  | 114 => 0xBEE4A43A#32
  | 115 => 0x3F23CEDE#32
  | 116 => 0x3EF552CA#32
  | 117 => 0x3F2F2326#32
  | 118 => 0xBF5E2173#32
  | 119 => 0x3DBBC9F0#32
  | 120 => 0x3E6730C0#32
  | 121 => 0xBF9E2A22#32
  | 122 => 0x3EDAA719#32
  | 123 => 0x3F94797F#32
  | 124 => 0x3DE009AA#32
  | 125 => 0x3F6602AC#32
  | 126 => 0x3FA1AA92#32
  | 127 => 0x3F190EC7#32
  | _ => 0#32

noncomputable abbrev lit0t0_850 (i : Nat) : BitVec 32 := match i % 128 with
  | 0 => 0xBEAE89EE#32
  | 1 => 0x3F90539D#32
  | 2 => 0x3FBB1662#32
  | 3 => 0x3F22A2B3#32
  | 4 => 0x403177DA#32
  | 5 => 0x3F544DF6#32
  | 6 => 0xBE85B89F#32
  | 7 => 0x3ECF1CE4#32
  | 8 => 0x3EF868AC#32
  | 9 => 0xBF3B9054#32
  | 10 => 0xBF30BAE2#32
  | 11 => 0x404217C4#32
  | 12 => 0x3F937849#32
  | 13 => 0x3FEB7402#32
  | 14 => 0x3F0657D6#32
  | 15 => 0xBFC45882#32
  | 16 => 0x3DD73DAE#32
  | 17 => 0x3FB3393A#32
  | 18 => 0x3FDE4728#32
  | 19 => 0x40A91BC9#32
  | 20 => 0xBEBF9AEF#32
  | 21 => 0x3F8180EE#32
  | 22 => 0x3F902A5C#32
  | 23 => 0xBE18277A#32
  | 24 => 0xBF1B31BA#32
  | 25 => 0x404E1927#32
  | 26 => 0x3EC323B6#32
  | 27 => 0xBEDEB677#32
  | 28 => 0x3FF803B7#32
  | 29 => 0xBED02E6F#32
  | 30 => 0x3F4CB322#32
  | 31 => 0xBF36F907#32
  | 32 => 0x3E034DE6#32
  | 33 => 0x3FF27000#32
  | 34 => 0xBE08DA0D#32
  | 35 => 0x3D409181#32
  | 36 => 0x3FB6BF50#32
  | 37 => 0x3F4ACBCD#32
  | 38 => 0xBDD8FE3F#32
  | 39 => 0xBF701A80#32
  | 40 => 0xBEE070AD#32
  | 41 => 0xBE830437#32
  | 42 => 0x3ED66B09#32
  | 43 => 0x3E9F0967#32
  | 44 => 0x402C8FB6#32
  | 45 => 0x3F3B4350#32
  | 46 => 0xBF74A140#32
  | 47 => 0x3D86221C#32
  | 48 => 0xBDD9416C#32
  | 49 => 0xBF6EBF26#32
  | 50 => 0x3FCBE0EB#32
  | 51 => 0xBE3242CF#32
  | 52 => 0xBE0D4BCB#32
  | 53 => 0x3EB962CD#32
  | 54 => 0x3D1E5806#32
  | 55 => 0x3EDA7F52#32
  | 56 => 0xBED0EC0F#32
  | 57 => 0xBDD05F70#32
  | 58 => 0xBC2496A8#32
  | 59 => 0x3E8DBE39#32
  | 60 => 0x3FF7C718#32
  | 61 => 0x3F8AD02E#32
  | 62 => 0x3F7201EE#32
  | 63 => 0x3F2E1305#32
  | 64 => 0x40392513#32
  | 65 => 0x3F2C945C#32
  | 66 => 0x3EDEDF69#32
  | 67 => 0xBE6187DE#32
  | 68 => 0xBDDF50CF#32
  | 69 => 0x3F9AC50A#32
  | 70 => 0x4019B459#32
  | 71 => 0xBEA6372C#32
  | 72 => 0x3DF61E97#32
  | 73 => 0x3EED1D2F#32
  | 74 => 0x3F0E4DAA#32
  | 75 => 0x3D30ED39#32
  | 76 => 0xBDE0BBE7#32
  | 77 => 0x40755010#32
  | 78 => 0x3EFD6314#32
  | 79 => 0x3F6E620E#32
  | 80 => 0xBF0D9FDC#32
  | 81 => 0x3DDC8123#32
  | 82 => 0xBF1B9FEB#32
  | 83 => 0x3F773314#32
  | 84 => 0x3D83DFA5#32
  | 85 => 0xBEFF18E2#32
  | 86 => 0x3FAC397D#32
  | 87 => 0x3EC0699B#32
  | 88 => 0xBF2AD40E#32
  | 89 => 0xBDC89E62#32
  | 90 => 0x3F1FC56A#32
  | 91 => 0xBFAC0D84#32
  | 92 => 0x3F6D2B92#32
  | 93 => 0xBEA89A18#32
  | 94 => 0x3EA10519#32
  | 95 => 0xBF5F12E1#32
  | 96 => 0x3F979129#32
  | 97 => 0x40A7880A#32
  | 98 => 0x3FCA3420#32
  | 99 => 0x4074B596#32
  | 100 => 0x3F41516E#32
  | 101 => 0x3ED96205#32
  | 102 => 0xBE9A28FB#32
  | 103 => 0x3F879E5F#32
  | 104 => 0x3F8712F7#32
  | 105 => 0x4028041E#32
  | 106 => 0x3EEC1BC2#32
  | 107 => 0xBF177901#32
  | 108 => 0xBEDA7DBF#32
  | 109 => 0x3E8E17C9#32
  | 110 => 0x3F4F3033#32
  | 111 => 0x3FD151BC#32
  | 112 => 0x3F96B2D4#32
  | 113 => 0xBD30F810#32
  | 114 => 0xBC9DB5DD#32
  | 115 => 0x3F102958#32
  | 116 => 0x3FAEA260#32
  | 117 => 0xBF61CBAA#32
  | 118 => 0xBDB70DC4#32
  | 119 => 0x3F1935E9#32
  | 120 => 0x3E9BC31B#32
  | 121 => 0xBED53AB0#32
  | 122 => 0x3D9E1C56#32
  | 123 => 0x3E9424F2#32
  | 124 => 0xBF3A04DE#32
  | 125 => 0x3E4BF9BB#32
  | 126 => 0xBEA727BB#32
  | 127 => 0xBE70A082#32
  | _ => 0#32

noncomputable abbrev lit0t0_851 (i : Nat) : BitVec 32 := match i % 128 with
  | 0 => 0x3F9BA3C3#32
  | 1 => 0x403C7C1C#32
  | 2 => 0x3E88DE1D#32
  | 3 => 0xBF20D25B#32
  | 4 => 0x3FBBC13A#32
  | 5 => 0xBF9038DD#32
  | 6 => 0x3F88EA7E#32
  | 7 => 0xBC3B1979#32
  | 8 => 0x3F79F154#32
  | 9 => 0xBEB55177#32
  | 10 => 0x3F4C177B#32
  | 11 => 0x3EC9971B#32
  | 12 => 0x3FF9F8F6#32
  | 13 => 0xBE2B4CB5#32
  | 14 => 0xBE791304#32
  | 15 => 0xBE9899D5#32
  | 16 => 0xBF921A6F#32
  | 17 => 0x3F62B776#32
  | 18 => 0xBEDCDE0E#32
  | 19 => 0xBED32ED7#32
  | 20 => 0x3F495F80#32
  | 21 => 0x3F467E35#32
  | 22 => 0x3FC9F346#32
  | 23 => 0x4010CA29#32
  | 24 => 0xBE1623EA#32
  | 25 => 0xBD286EEB#32
  | 26 => 0x3EEF6C2A#32
  | 27 => 0x3F6CB38E#32
  | 28 => 0xBF1D464E#32
  | 29 => 0xBC75FEDC#32
  | 30 => 0x3D1B1447#32
  | 31 => 0x3E13D345#32
  | 32 => 0x3E8C2352#32
  | 33 => 0x3EECDDB4#32
  | 34 => 0x3E9E9545#32
  | 35 => 0xBE95B056#32
  | 36 => 0xBF0CF1B4#32
  | 37 => 0x3F068450#32
  | 38 => 0x3F5192FA#32
  | 39 => 0x40585748#32
  | 40 => 0x40110340#32
  | 41 => 0xBE6E1664#32
  | 42 => 0xBF56E2CB#32
  | 43 => 0x3FDD0BF0#32
  | 44 => 0xBEB4D74C#32
  | 45 => 0x3FA1DFDC#32
  | 46 => 0xBE7069E1#32
  | 47 => 0x400F0E2F#32
  | 48 => 0x40481533#32
  | 49 => 0x3EF8252C#32
  | 50 => 0x3F6FD3B0#32
  | 51 => 0x3FCE47A7#32
  | 52 => 0xBF23E861#32
  | 53 => 0xBE7DDD59#32
  | 54 => 0x3F6E8E22#32
  | 55 => 0x3EDA2B96#32
  | 56 => 0x3CF5EF2C#32
  | 57 => 0x40309540#32
  | 58 => 0xBB0E2085#32
  | 59 => 0x3E25E268#32
  | 60 => 0x3F22B200#32
  | 61 => 0x3E0EEEA3#32
  | 62 => 0x3EA6B490#32
  | 63 => 0xBD371858#32
  | 64 => 0x3F73747C#32
  | 65 => 0xBE17D3DB#32
  | 66 => 0x3E45C972#32
  | 67 => 0xBF4DB390#32
  | 68 => 0x3E565B3C#32
  | 69 => 0x3D1EFEAB#32
  | 70 => 0x3FFB30FD#32
  | 71 => 0x3F0CC7DC#32
  | 72 => 0x404C6B8C#32
  | 73 => 0x3F7F1E2C#32
  | 74 => 0xBF9A35FE#32
  | 75 => 0x3EDBB66B#32
  | 76 => 0xBF5C7F8B#32
  | 77 => 0x404EC34E#32
  | 78 => 0x3FB23995#32
  | 79 => 0x408A2BE3#32
  | 80 => 0xBF0074BE#32
  | 81 => 0xBF61EB01#32
  | 82 => 0xBECF9865#32
  | 83 => 0xBEEF930B#32
  | 84 => 0x3FBD3570#32
  | 85 => 0x3EB5B3A2#32
  | 86 => 0x40480C51#32
  | 87 => 0xBECBFCED#32
  | 88 => 0x3F3623BE#32
  | 89 => 0x3F42EE9F#32
  | 90 => 0x3DB4E6DD#32
  | 91 => 0xBD294882#32
  | 92 => 0xBE80F870#32
  | 93 => 0xBFA6518F#32
  | 94 => 0x3F4AE216#32
  | 95 => 0x3EEE9794#32
  | 96 => 0x3D043CC0#32
  | 97 => 0x3F2DBDA9#32
  | 98 => 0x3E9EA747#32
  | 99 => 0x3EEF1ECE#32
  | 100 => 0x3F861E28#32
  | 101 => 0xBF164C8D#32
  | 102 => 0xBE873807#32
  | 103 => 0x3EAF28DF#32
  | 104 => 0xBF3B2B89#32
  | 105 => 0xBF2FF19F#32
  | 106 => 0xBE2ACD48#32
  | 107 => 0xBDF1AD7F#32
  | 108 => 0xBF00531F#32
  | 109 => 0xBF36F191#32
  | 110 => 0x40199E0E#32
  | 111 => 0xBC1B3D22#32
  | 112 => 0x3F6A387F#32
  | 113 => 0xBE7817E5#32
  | 114 => 0x4031FF3E#32
  | 115 => 0x3FB55E98#32
  | 116 => 0x3FAE3D07#32
  | 117 => 0xBF139931#32
  | 118 => 0x3FEC42DB#32
  | 119 => 0xBCE86ED2#32
  | 120 => 0x3E51091E#32
  | 121 => 0x3FA4FDA5#32
  | 122 => 0x4040FF76#32
  | 123 => 0xBBAFC21E#32
  | 124 => 0x40004E3A#32
  | 125 => 0x3F810D6A#32
  | 126 => 0xBF5775CD#32
  | 127 => 0x3EFBA5BB#32
  | _ => 0#32

noncomputable abbrev lit0t0_852 (i : Nat) : BitVec 32 := match i % 128 with
  | 0 => 0x3D852110#32
  | 1 => 0x40223A34#32
  | 2 => 0xBFCEC5CA#32
  | 3 => 0xBF3B06FB#32
  | 4 => 0xBE29437A#32
  | 5 => 0xBE565BDE#32
  | 6 => 0xBF4F7E2C#32
  | 7 => 0x3E7D6C39#32
  | 8 => 0x3EA2AE2D#32
  | 9 => 0xBEF94376#32
  | 10 => 0xBE9B871D#32
  | 11 => 0xBF84BFB1#32
  | 12 => 0xBEDF42C9#32
  | 13 => 0x3F8E82D7#32
  | 14 => 0xBF2BC4CF#32
  | 15 => 0x3D2FDEE4#32
  | 16 => 0x3EBF9662#32
  | 17 => 0x3E80FA55#32
  | 18 => 0xBEED6170#32
  | 19 => 0x3F2343F4#32
  | 20 => 0x4067E180#32
  | 21 => 0x3F925858#32
  | 22 => 0xBDCD06C9#32
  | 23 => 0x40979FF8#32
  | 24 => 0x3EEE605D#32
  | 25 => 0xBF1DF167#32
  | 26 => 0xBF912CD9#32
  | 27 => 0x3FCF854A#32
  | 28 => 0xBD27DA64#32
  | 29 => 0x3E7AB929#32
  | 30 => 0x40463137#32
  | 31 => 0x401B0CA8#32
  | 32 => 0x3F7A8E06#32
  | 33 => 0x3FA64DA3#32
  | 34 => 0xBE87BEB9#32
  | 35 => 0xBFA4D41E#32
  | 36 => 0x3FCA0100#32
  | 37 => 0x3FA6DEAC#32
  | 38 => 0x403027F2#32
  | 39 => 0x3F0818E3#32
  | 40 => 0x3FD47707#32
  | 41 => 0x3FF3857B#32
  | 42 => 0xBE851C46#32
  | 43 => 0x408BED19#32
  | 44 => 0x3E93C3EF#32
  | 45 => 0x3F1E8AA8#32
  | 46 => 0xBE2573C6#32
  | 47 => 0x40159339#32
  | 48 => 0xBFB172B8#32
  | 49 => 0xBE169ECA#32
  | 50 => 0x3F536524#32
  | 51 => 0x4013CB2F#32
  | 52 => 0xBF316F3A#32
  | 53 => 0x3E90133C#32
  | 54 => 0x3FC857D4#32
  | 55 => 0x3E6D3AE7#32
  | 56 => 0xBFA365FD#32
  | 57 => 0x3F688861#32
  | 58 => 0x3E81F950#32
  | 59 => 0xBF2FEF62#32
  | 60 => 0x3F4E2864#32
  | 61 => 0xBEA600CE#32
  | 62 => 0x406D67A0#32
  | 63 => 0x3FC5B9C9#32
  | 64 => 0x3C2A6CA0#32
  | 65 => 0x3CC46BCB#32
  | 66 => 0x400C8CA1#32
  | 67 => 0x3FEEB2C2#32
  | 68 => 0x3FC149D5#32
  | 69 => 0xBD206CA6#32
  | 70 => 0xBDAE7F17#32
  | 71 => 0x3D93D2F9#32
  | 72 => 0xBE8761E8#32
  | 73 => 0x3F4E75C9#32
  | 74 => 0xBEE217A3#32
  | 75 => 0xBDA79F28#32
  | 76 => 0x3F7C0488#32
  | 77 => 0x3F40953D#32
  | 78 => 0x3F9344FC#32
  | 79 => 0xBE9C714D#32
  | 80 => 0x3F9670BA#32
  | 81 => 0x4087B425#32
  | 82 => 0xBEC1FF95#32
  | 83 => 0x40380D8E#32
  | 84 => 0x3FC3F926#32
  | 85 => 0xBF9C4C6D#32
  | 86 => 0xBF67DCB5#32
  | 87 => 0xBF5ADB46#32
  | 88 => 0x3E304F36#32
  | 89 => 0xBF031C08#32
  | 90 => 0xBFD3B388#32
  | 91 => 0xBF61F70A#32
  | 92 => 0x3FA44F40#32
  | 93 => 0x3ED51742#32
  | 94 => 0xBEE01A94#32
  | 95 => 0x401DD8CD#32
  | 96 => 0xBF3F29AF#32
  | 97 => 0x3E686CCA#32
  | 98 => 0x3DE11A39#32
  | 99 => 0x3E7D57C4#32
  | 100 => 0x3F3F30B8#32
  | 101 => 0xBF309FEB#32
  | 102 => 0xBF0FC7D6#32
  | 103 => 0x4002B1D0#32
  | 104 => 0xBFB7D197#32
  | 105 => 0xBF994F9A#32
  | 106 => 0x40E00BBA#32
  | 107 => 0xBF90AAFC#32
  | 108 => 0x3EB56DCA#32
  | 109 => 0xBF7EAD40#32
  | 110 => 0xBF8632E5#32
  | 111 => 0xBEC97CFC#32
  | 112 => 0x4001A85B#32
  | 113 => 0xBF8B86D1#32
  | 114 => 0x3D0BF347#32
  | 115 => 0x3F0C56F2#32
  | 116 => 0x3DC8B173#32
  | 117 => 0x3F312EFB#32
  | 118 => 0x3F8C8FF4#32
  | 119 => 0x3FD40C3E#32
  | 120 => 0x400042DA#32
  | 121 => 0xBE79264D#32
  | 122 => 0x3EAB6139#32
  | 123 => 0xBD96B0D0#32
  | 124 => 0x3E46EFA5#32
  | 125 => 0x3FB0650C#32
  | 126 => 0x3F26B0F2#32
  | 127 => 0x3F2054EF#32
  | _ => 0#32

noncomputable abbrev lit0t0_853 (i : Nat) : BitVec 32 := match i % 128 with
  | 0 => 0x3F1814C1#32
  | 1 => 0x3D8A0B6D#32
  | 2 => 0xBF43C340#32
  | 3 => 0x3E4C5918#32
  | 4 => 0x3CB236EE#32
  | 5 => 0xBE71750A#32
  | 6 => 0x3EE12FB1#32
  | 7 => 0x405DCE93#32
  | 8 => 0xBEE83097#32
  | 9 => 0xBF815C80#32
  | 10 => 0x3F06FA18#32
  | 11 => 0x3FD2D177#32
  | 12 => 0x3EC1A701#32
  | 13 => 0x3F7B3984#32
  | 14 => 0x3E0728B1#32
  | 15 => 0x3FDF2ACE#32
  | 16 => 0x3D9ED6C0#32
  | 17 => 0xBF10B97D#32
  | 18 => 0xBDF14C4A#32
  | 19 => 0x3F7C5CAC#32
  | 20 => 0xBBE6D166#32
  | 21 => 0x3EA7EAB6#32
  | 22 => 0x3F283122#32
  | 23 => 0xBF41A3C7#32
  | 24 => 0x3F7E75AB#32
  | 25 => 0xBC567324#32
  | 26 => 0xBCF6BB2F#32
  | 27 => 0x3EC7DF64#32
  | 28 => 0xBC573418#32
  | 29 => 0x3F8E53AD#32
  | 30 => 0x3F81A654#32
  | 31 => 0x3F79DE15#32
  | 32 => 0xBF9D261E#32
  | 33 => 0x40D32F7D#32
  | 34 => 0x3BEE6E88#32
  | 35 => 0xBFB76204#32
  | 36 => 0xBDE0B401#32
  | 37 => 0xBF214EA3#32
  | 38 => 0x4006445A#32
  | 39 => 0x3E8CB083#32
  | 40 => 0xBE39B9B3#32
  | 41 => 0xBFA1106B#32
  | 42 => 0x3FF427AD#32
  | 43 => 0x3F3B0C44#32
  | 44 => 0x4053D9F4#32
  | 45 => 0x403BA0E1#32
  | 46 => 0x3DC5BAFE#32
  | 47 => 0x3FF862DB#32
  | 48 => 0xBD91ADF3#32
  | 49 => 0x3E877F9D#32
  | 50 => 0xBF656A63#32
  | 51 => 0x3F12ADE1#32
  | 52 => 0x3E4AF983#32
  | 53 => 0xBF8A1259#32
  | 54 => 0x3EC77582#32
  | 55 => 0x3F1EE2D8#32
  | 56 => 0x400C113D#32
  | 57 => 0xBFD6F378#32
  | 58 => 0x3FDD580F#32
  | 59 => 0x4023A0A8#32
  | 60 => 0x3FC713D7#32
  | 61 => 0x3F05F00E#32
  | 62 => 0xBF9CA7E2#32
  | 63 => 0x3FB8F389#32
  | 64 => 0x3EFE5EBD#32
  | 65 => 0x3FD44F7F#32
  | 66 => 0x3E9A492E#32
  | 67 => 0x3DFECA01#32
  | 68 => 0x3F8192A9#32
  | 69 => 0xBECAE96C#32
  | 70 => 0xBECD5B39#32
  | 71 => 0x3E63E77B#32
  | 72 => 0xBE800E05#32
  | 73 => 0x3FB62ADB#32
  | 74 => 0x3E9397BB#32
  | 75 => 0xBE641B2C#32
  | 76 => 0x3E71167F#32
  | 77 => 0x4014EA81#32
  | 78 => 0x3E905447#32
  | 79 => 0x3F90C482#32
  | 80 => 0x3FC133A7#32
  | 81 => 0x3ECDA127#32
  | 82 => 0xBF7E08B1#32
  | 83 => 0x3F53CC20#32
  | 84 => 0xBF4B0848#32
  | 85 => 0xBEE86766#32
  | 86 => 0xBF5124E9#32
  | 87 => 0xBF38BA15#32
  | 88 => 0x3FC839E0#32
  | 89 => 0x4023E4DF#32
  | 90 => 0x3EA8E632#32
  | 91 => 0xBE9BD13E#32
  | 92 => 0x3FDF6779#32
  | 93 => 0xBF6C93A4#32
  | 94 => 0x3F469A86#32
  | 95 => 0xBEB325F0#32
  | 96 => 0xBEDE9286#32
  | 97 => 0x3FE3D692#32
  | 98 => 0x3F98CF71#32
  | 99 => 0x3F88A97A#32
  | 100 => 0x3FFED7CC#32
  | 101 => 0x3F00D22C#32
  | 102 => 0x3FB426AC#32
  | 103 => 0xBF71B9C7#32
  | 104 => 0x400B9227#32
  | 105 => 0x3F096F4A#32
  | 106 => 0xBF440CAA#32
  | 107 => 0xBD9FC702#32
  | 108 => 0x3FC6E8CF#32
  | 109 => 0xBE8536FB#32
  | 110 => 0x3F938369#32
  | 111 => 0x3F551FEB#32
  | 112 => 0x3E91C4DB#32
  | 113 => 0x3EE542A8#32
  | 114 => 0x3F329097#32
  | 115 => 0xBEE898C1#32
  | 116 => 0x3F654E86#32
  | 117 => 0x4016CAF2#32
  | 118 => 0xBECC1AD7#32
  | 119 => 0x3F9CBADA#32
  | 120 => 0xBF590369#32
  | 121 => 0x40207250#32
  | 122 => 0xBE98CB70#32
  | 123 => 0x40089F4B#32
  | 124 => 0x3FBD7D74#32
  | 125 => 0x4008F965#32
  | 126 => 0x405597FA#32
  | 127 => 0xBE8EBCC1#32
  | _ => 0#32

noncomputable abbrev lit0t0_854 (i : Nat) : BitVec 32 := match i % 128 with
  | 0 => 0x4001224F#32
  | 1 => 0xBF111672#32
  | 2 => 0xBEAC35DC#32
  | 3 => 0xBF83C29B#32
  | 4 => 0xBEA0A7B3#32
  | 5 => 0xBDD61B36#32
  | 6 => 0x40EA0829#32
  | 7 => 0x3FA8A543#32
  | 8 => 0x3F49F234#32
  | 9 => 0x3F9553A1#32
  | 10 => 0xBFBE26EE#32
  | 11 => 0x402184D9#32
  | 12 => 0xBF314BA6#32
  | 13 => 0xBF98939B#32
  | 14 => 0x3F0C5349#32
  | 15 => 0xBFD3039D#32
  | 16 => 0x3E806D3A#32
  | 17 => 0x3EF980E9#32
  | 18 => 0xBF29C1D7#32
  | 19 => 0x3CA622DE#32
  | 20 => 0x3FB77E82#32
  | 21 => 0xBF6DE7EB#32
  | 22 => 0xBE0D20E3#32
  | 23 => 0x3DB26037#32
  | 24 => 0xBEC2FCEC#32
  | 25 => 0x3FBFD1BD#32
  | 26 => 0x3F3DDA43#32
  | 27 => 0x3E6CE908#32
  | 28 => 0x3FCCFD2B#32
  | 29 => 0x4023AD88#32
  | 30 => 0xBF894264#32
  | 31 => 0x3DED329A#32
  | 32 => 0x3EB77095#32
  | 33 => 0xBF687799#32
  | 34 => 0x40164BDE#32
  | 35 => 0xBF09211D#32
  | 36 => 0x3EF84D18#32
  | 37 => 0x3FAAA1EF#32
  | 38 => 0xBF8FB3A4#32
  | 39 => 0x3F9CB04C#32
  | 40 => 0x3F534464#32
  | 41 => 0x400D0B9F#32
  | 42 => 0xBF897715#32
  | 43 => 0xBF241868#32
  | 44 => 0xBF821161#32
  | 45 => 0x3F468BB5#32
  | 46 => 0x401E1F6B#32
  | 47 => 0xBE270A5A#32
  | 48 => 0x3FA40D69#32
  | 49 => 0xBEB2D98C#32
  | 50 => 0xBE9AAEF2#32
  | 51 => 0x3FC580F2#32
  | 52 => 0xBF6951B3#32
  | 53 => 0x3F27824C#32
  | 54 => 0x3EF1B104#32
  | 55 => 0x3F7C6C8C#32
  | 56 => 0x3DA4B490#32
  | 57 => 0x3F1BADB7#32
  | 58 => 0xBF56D582#32
  | 59 => 0x40C778E1#32
  | 60 => 0x3FE6073E#32
  | 61 => 0x3EDF45FE#32
  | 62 => 0xBEEB7663#32
  | 63 => 0x3FAD4258#32
  | 64 => 0xBF87C7CB#32
  | 65 => 0xBF6E7E24#32
  | 66 => 0xBF547C66#32
  | 67 => 0x3F7E621B#32
  | 68 => 0xBF9D765C#32
  | 69 => 0xBF97477F#32
  | 70 => 0xBF8F6183#32
  | 71 => 0xBF5AD90A#32
  | 72 => 0x3E88B767#32
  | 73 => 0x407797C5#32
  | 74 => 0xBF029139#32
  | 75 => 0x3DF8FA2A#32
  | 76 => 0xBEAD0678#32
  | 77 => 0xBEE7068C#32
  | 78 => 0x3FD655B8#32
  | 79 => 0x3E7418C0#32
  | 80 => 0xBF313FD2#32
  | 81 => 0xBF6B24BA#32
  | 82 => 0x3EE802CB#32
  | 83 => 0xBF043705#32
  | 84 => 0x3FAC7637#32
  | 85 => 0x401EC431#32
  | 86 => 0xBF3728A5#32
  | 87 => 0xBF84CD6C#32
  | 88 => 0x3F2B57A6#32
  | 89 => 0x3E8CDDB7#32
  | 90 => 0x3B33ED2C#32
  | 91 => 0x3F5C60EB#32
  | 92 => 0x3E37B674#32
  | 93 => 0xBEE886CA#32
  | 94 => 0xBD38E9F4#32
  | 95 => 0xBF85328B#32
  | 96 => 0x401989A5#32
  | 97 => 0xBEDBAC33#32
  | 98 => 0x3F0B1C1A#32
  | 99 => 0x40154A21#32
  | 100 => 0x402049F0#32
  | 101 => 0x402772BB#32
  | 102 => 0x3FA460B4#32
  | 103 => 0x3F4B4CC1#32
  | 104 => 0xBF03C2C0#32
  | 105 => 0x3DBC072F#32
  | 106 => 0x3EF3ECAA#32
  | 107 => 0x3DEEA3C7#32
  | 108 => 0x40443576#32
  | 109 => 0xBEA24F9E#32
  | 110 => 0x3EC0538D#32
  | 111 => 0xBF53A481#32
  | 112 => 0x4025187E#32
  | 113 => 0x402E5A1D#32
  | 114 => 0xBF94777B#32
  | 115 => 0x408B46CE#32
  | 116 => 0x3ECA1B2F#32
  | 117 => 0xBFB08BFD#32
  | 118 => 0xBF85753A#32
  | 119 => 0x4038940F#32
  | 120 => 0xBE7FF77C#32
  | 121 => 0x3FC4E83E#32
  | 122 => 0x3F75613E#32
  | 123 => 0xBF21D794#32
  | 124 => 0x3FC6167C#32
  | 125 => 0xBFC84504#32
  | 126 => 0x3F8BCD2C#32
  | 127 => 0x3F9C1EDC#32
  | _ => 0#32

noncomputable abbrev lit0t0_855 (i : Nat) : BitVec 32 := match i % 128 with
  | 0 => 0x405E3EF5#32
  | 1 => 0x402B0140#32
  | 2 => 0x3F42C21D#32
  | 3 => 0x40086E62#32
  | 4 => 0xBE61E6BA#32
  | 5 => 0xBF82B991#32
  | 6 => 0xBF133E2F#32
  | 7 => 0xBEC38A75#32
  | 8 => 0x3E866384#32
  | 9 => 0xBFAC1723#32
  | 10 => 0x40055271#32
  | 11 => 0x3E603F34#32
  | 12 => 0x3FFF9151#32
  | 13 => 0xBD95415B#32
  | 14 => 0x40199202#32
  | 15 => 0xBE8C6020#32
  | 16 => 0x3F95176A#32
  | 17 => 0xBD5FF743#32
  | 18 => 0xBF48AF4B#32
  | 19 => 0x3DA94234#32
  | 20 => 0x3F820447#32
  | 21 => 0x4077644A#32
  | 22 => 0x3FF60F21#32
  | 23 => 0x40845256#32
  | 24 => 0x3E82A9F6#32
  | 25 => 0xBF05FD97#32
  | 26 => 0x3F29B5BE#32
  | 27 => 0x3E4B71B0#32
  | 28 => 0xBE7E905E#32
  | 29 => 0x3F9599FC#32
  | 30 => 0xBF04A3B9#32
  | 31 => 0x3F9000CA#32
  | 32 => 0x4001A2D5#32
  | 33 => 0x3F252543#32
  | 34 => 0xBD442DDF#32
  | 35 => 0x3E8C8A9E#32
  | 36 => 0xBF8B439C#32
  | 37 => 0x3FAC2BF7#32
  | 38 => 0x3FCD8220#32
  | 39 => 0x4009F6E6#32
  | 40 => 0xBD969594#32
  | 41 => 0x3E573AF4#32
  | 42 => 0xBE562515#32
  | 43 => 0x3DA5F210#32
  | 44 => 0xBF9B123F#32
  | 45 => 0x40484B17#32
  | 46 => 0x3EC4EDD0#32
  | 47 => 0x4033C321#32
  | 48 => 0x3F25EFDD#32
  | 49 => 0x3EB5599D#32
  | 50 => 0x3F8D62F8#32
  | 51 => 0x3C71155B#32
  | 52 => 0xBEEFE706#32
  | 53 => 0xBF62596A#32
  | 54 => 0x408A2548#32
  | 55 => 0x3F846A5E#32
  | 56 => 0x405A8BBF#32
  | 57 => 0x3F55AC14#32
  | 58 => 0xBE0742D3#32
  | 59 => 0xBF2016B2#32
  | 60 => 0x3FE2CB46#32
  | 61 => 0x3E2449D2#32
  | 62 => 0x401C5038#32
  | 63 => 0x3FA46918#32
  | 64 => 0x3EEC53A9#32
  | 65 => 0x400AD6D6#32
  | 66 => 0xBD02EE48#32
  | 67 => 0x3E5F7DDC#32
  | 68 => 0xBF0E028E#32
  | 69 => 0x3E34D810#32
  | 70 => 0x3F3167B6#32
  | 71 => 0xBDC7F403#32
  | 72 => 0x400739BB#32
  | 73 => 0xBFB12B8E#32
  | 74 => 0xBF8F1146#32
  | 75 => 0x3FE25972#32
  | 76 => 0xBEC2C87B#32
  | 77 => 0x3FADF527#32
  | 78 => 0x3F73E8C0#32
  | 79 => 0xBE880F33#32
  | 80 => 0x3F5CA827#32
  | 81 => 0x3F5A30AA#32
  | 82 => 0x3FD04883#32
  | 83 => 0x3FD54F5B#32
  | 84 => 0x3F275AFF#32
  | 85 => 0x3F70E582#32
  | 86 => 0xBF831B72#32
  | 87 => 0xBEC5640D#32
  | 88 => 0x3D097A95#32
  | 89 => 0x3ECF9CF6#32
  | 90 => 0x3FAEA824#32
  | 91 => 0x3F8D1FF5#32
  | 92 => 0xBF0AC18A#32
  | 93 => 0xBF14476E#32
  | 94 => 0x3F66E555#32
  | 95 => 0xBF1D769A#32
  | 96 => 0xBEB9E5FF#32
  | 97 => 0xBFA04BC3#32
  | 98 => 0xBFA419AC#32
  | 99 => 0x4097C1CD#32
  | 100 => 0x3E72210D#32
  | 101 => 0x3F6380B8#32
  | 102 => 0x3E7F2D00#32
  | 103 => 0x4032B80F#32
  | 104 => 0x3E8BF3B8#32
  | 105 => 0x3DC5AEB4#32
  | 106 => 0xBE6C182A#32
  | 107 => 0xBF8E7944#32
  | 108 => 0x3F4DC452#32
  | 109 => 0x404F608B#32
  | 110 => 0x3E46CCA4#32
  | 111 => 0xBEF252BC#32
  | 112 => 0x3FEC6073#32
  | 113 => 0xBF2FFA43#32
  | 114 => 0xBF1665B8#32
  | 115 => 0x3E2890B7#32
  | 116 => 0x400FF6D2#32
  | 117 => 0xBF1732B6#32
  | 118 => 0xBFA4C0DA#32
  | 119 => 0xBEB16BDF#32
  | 120 => 0x3F5601BC#32
  | 121 => 0x4066A8C9#32
  | 122 => 0x3F4F2A25#32
  | 123 => 0x4003E984#32
  | 124 => 0x3F279567#32
  | 125 => 0x3EB8F286#32
  | 126 => 0x403D665D#32
  | 127 => 0x3EA65E5F#32
  | _ => 0#32

noncomputable abbrev lit0t0_856 (i : Nat) : BitVec 32 := match i % 128 with
  | 0 => 0x4038A465#32
  | 1 => 0x3FEDB185#32
  | 2 => 0xBE20DAE5#32
  | 3 => 0x3EF480A8#32
  | 4 => 0x3FEA7168#32
  | 5 => 0xBF8396F3#32
  | 6 => 0x3FA4329C#32
  | 7 => 0x3F92BB98#32
  | 8 => 0x3F68D3B0#32
  | 9 => 0x3E46AECC#32
  | 10 => 0x3E0248DD#32
  | 11 => 0xBD5488EB#32
  | 12 => 0xBF8F9D70#32
  | 13 => 0x3FB06426#32
  | 14 => 0x3E6178FC#32
  | 15 => 0xBEC9B305#32
  | 16 => 0x3EB6F5E0#32
  | 17 => 0xBF0B1A66#32
  | 18 => 0x3E6A11B3#32
  | 19 => 0x402A44A7#32
  | 20 => 0xBFBA0C8D#32
  | 21 => 0x3EAAAFFF#32
  | 22 => 0xBD727674#32
  | 23 => 0x3ED5E171#32
  | 24 => 0x405A4609#32
  | 25 => 0x400865EE#32
  | 26 => 0xBFC50744#32
  | 27 => 0xB9CA95FB#32
  | 28 => 0x4070906F#32
  | 29 => 0x3EAC9269#32
  | 30 => 0xBF27989C#32
  | 31 => 0x3F86C6CF#32
  | 32 => 0x3EFCD98E#32
  | 33 => 0x3E067D4D#32
  | 34 => 0x3FC717BF#32
  | 35 => 0x3EAFA5F0#32
  | 36 => 0x3F7A0F05#32
  | 37 => 0x3E763ADF#32
  | 38 => 0x40188A2A#32
  | 39 => 0x3F191959#32
  | 40 => 0x3F5539E5#32
  | 41 => 0x3F297993#32
  | 42 => 0x3F9F7400#32
  | 43 => 0x3F8493DD#32
  | 44 => 0x3FEC5549#32
  | 45 => 0x3D35FC0B#32
  | 46 => 0x3F9393B2#32
  | 47 => 0xBF2181CD#32
  | 48 => 0x3FF1D43D#32
  | 49 => 0xBF939353#32
  | 50 => 0x3D8BD8B7#32
  | 51 => 0x3F479B1C#32
  | 52 => 0x3F27DEF6#32
  | 53 => 0xBF1BE084#32
  | 54 => 0xBD9F9C49#32
  | 55 => 0xBE8E119A#32
  | 56 => 0xBE99273E#32
  | 57 => 0xBEE6B407#32
  | 58 => 0x3EE27736#32
  | 59 => 0xBF976318#32
  | 60 => 0x3F3D666F#32
  | 61 => 0xBE824265#32
  | 62 => 0x40CFB65C#32
  | 63 => 0xBF077826#32
  | 64 => 0xBF17EE8A#32
  | 65 => 0x3EC297D8#32
  | 66 => 0x3F6C045A#32
  | 67 => 0x3FE7667C#32
  | 68 => 0xBF001B4D#32
  | 69 => 0x3EB3197C#32
  | 70 => 0x402FB40E#32
  | 71 => 0x3EBF7587#32
  | 72 => 0x3F1A8BD8#32
  | 73 => 0xBE8F30DE#32
  | 74 => 0xBE0532E4#32
  | 75 => 0xBF300820#32
  | 76 => 0xBCB03FE0#32
  | 77 => 0xBF9C38C6#32
  | 78 => 0x3F02970C#32
  | 79 => 0x3F2889D2#32
  | 80 => 0xBFBDB636#32
  | 81 => 0xBF80E4F0#32
  | 82 => 0x3F58D5BE#32
  | 83 => 0xBECF3158#32
  | 84 => 0xBF8966F7#32
  | 85 => 0xBED39793#32
  | 86 => 0xBE854AB8#32
  | 87 => 0x3FE28DCE#32
  | 88 => 0x3F2CEF17#32
  | 89 => 0x3F2A85B7#32
  | 90 => 0xBF36F264#32
  | 91 => 0xBF2CBAD6#32
  | 92 => 0x3FC21CBE#32
  | 93 => 0xBF158037#32
  | 94 => 0x3FEBCDD2#32
  | 95 => 0x3FF7B1F6#32
  | 96 => 0x3F1B6CC0#32
  | 97 => 0x3DDF5BDF#32
  | 98 => 0xBE298FC1#32
  | 99 => 0xBEB4C509#32
  | 100 => 0x40051BF4#32
  | 101 => 0xBE278C82#32
  | 102 => 0xBFC2C13D#32
  | 103 => 0x3F4F355A#32
  | 104 => 0xBE1778DA#32
  | 105 => 0xBE92D662#32
  | 106 => 0xBD59B26A#32
  | 107 => 0xBF3BAADC#32
  | 108 => 0x3F21FBA8#32
  | 109 => 0x3F8CFF67#32
  | 110 => 0x3F1FCB65#32
  | 111 => 0x3FB9671C#32
  | 112 => 0x3FC91922#32
  | 113 => 0x3CEB64CE#32
  | 114 => 0x3F4BF9DA#32
  | 115 => 0xBE033F81#32
  | 116 => 0x3FA5D7CB#32
  | 117 => 0xBFE46E70#32
  | 118 => 0x3FCB5126#32
  | 119 => 0x3F10F2BA#32
  | 120 => 0x3E406BBA#32
  | 121 => 0x3F27A2FB#32
  | 122 => 0x3D19CEDD#32
  | 123 => 0x3D70684B#32
  | 124 => 0x3DE8B919#32
  | 125 => 0xBDDCD48F#32
  | 126 => 0x4010E183#32
  | 127 => 0x3FBA7B8B#32
  | _ => 0#32

noncomputable abbrev lit0t0_857 (i : Nat) : BitVec 32 := match i % 128 with
  | 0 => 0x3F2C5868#32
  | 1 => 0x400E4479#32
  | 2 => 0xBF5DC26A#32
  | 3 => 0xBDFF5435#32
  | 4 => 0xBED8A567#32
  | 5 => 0xBDB19711#32
  | 6 => 0x403A9A16#32
  | 7 => 0x3EF24F99#32
  | 8 => 0x3F8F8D04#32
  | 9 => 0x3EB92AB4#32
  | 10 => 0xBFADCE7D#32
  | 11 => 0x3FA301B3#32
  | 12 => 0x3F5A75B9#32
  | 13 => 0x3FA790D2#32
  | 14 => 0x3F7A644A#32
  | 15 => 0xBECB3C87#32
  | 16 => 0x3F6FB9AC#32
  | 17 => 0x3E026100#32
  | 18 => 0x3F531D27#32
  | 19 => 0xBF0B467A#32
  | 20 => 0xBEA41562#32
  | 21 => 0x3F8F5B80#32
  | 22 => 0x3DF21640#32
  | 23 => 0x3F684C89#32
  | 24 => 0x3EC6D8A4#32
  | 25 => 0x3F4A1648#32
  | 26 => 0x3F5BE6D0#32
  | 27 => 0xBF7B1F92#32
  | 28 => 0xBF15D527#32
  | 29 => 0xBF97BC7E#32
  | 30 => 0x401CFF6E#32
  | 31 => 0x3F635623#32
  | 32 => 0xBF175F76#32
  | 33 => 0x40B2BADB#32
  | 34 => 0x3F3AC584#32
  | 35 => 0x3E7650B1#32
  | 36 => 0x40138FC2#32
  | 37 => 0x3EE6D1E0#32
  | 38 => 0x3E12D4A6#32
  | 39 => 0xBECBD8BA#32
  | 40 => 0x3F18706F#32
  | 41 => 0xBFA4ECE1#32
  | 42 => 0xBF1CB58A#32
  | 43 => 0x4014C30F#32
  | 44 => 0x3F37A311#32
  | 45 => 0xBE4ED45C#32
  | 46 => 0xBC04F602#32
  | 47 => 0x3E002950#32
  | 48 => 0x408DDC8F#32
  | 49 => 0xBF2BC3EE#32
  | 50 => 0x40124DA0#32
  | 51 => 0xBF0BD4C4#32
  | 52 => 0x3E918C0C#32
  | 53 => 0xBE956C01#32
  | 54 => 0x3DDC835D#32
  | 55 => 0x3F8114F8#32
  | 56 => 0x40254D9A#32
  | 57 => 0xBF646934#32
  | 58 => 0x3EA5C883#32
  | 59 => 0x4006A368#32
  | 60 => 0xBC91F5A3#32
  | 61 => 0xBE92782C#32
  | 62 => 0xBE90279D#32
  | 63 => 0xBFAA5612#32
  | 64 => 0x3F848100#32
  | 65 => 0x3E49489B#32
  | 66 => 0x3EE0F1EF#32
  | 67 => 0x3E4251E2#32
  | 68 => 0xBDEC9354#32
  | 69 => 0xBD45446B#32
  | 70 => 0x3FECA6F6#32
  | 71 => 0x3EBFC458#32
  | 72 => 0x3EC8E286#32
  | 73 => 0xBF81269B#32
  | 74 => 0x3F99686E#32
  | 75 => 0xBF424BF3#32
  | 76 => 0xBF824FD7#32
  | 77 => 0x3F1DDBE6#32
  | 78 => 0x3FDDBFEA#32
  | 79 => 0x3F978AB2#32
  | 80 => 0xBF8F24B9#32
  | 81 => 0x3DBBEEF7#32
  | 82 => 0xBFAC28FE#32
  | 83 => 0xBF8BAB71#32
  | 84 => 0xBF2ED783#32
  | 85 => 0x3FE81138#32
  | 86 => 0x3E5D2C87#32
  | 87 => 0x3EDFAB2E#32
  | 88 => 0x3F549CB6#32
  | 89 => 0xBFB953F2#32
  | 90 => 0x3EC55A82#32
  | 91 => 0xBFD5B800#32
  | 92 => 0x40198234#32
  | 93 => 0x3EC998E0#32
  | 94 => 0xBF8709A7#32
  | 95 => 0x3F8A617F#32
  | 96 => 0x3F4880C0#32
  | 97 => 0xBE76ABAC#32
  | 98 => 0x3F043366#32
  | 99 => 0x4055904A#32
  | 100 => 0x3F2C4C5C#32
  | 101 => 0x3E98EF6C#32
  | 102 => 0x402C1382#32
  | 103 => 0x3E5109E8#32
  | 104 => 0xBF5BC890#32
  | 105 => 0xBF80890D#32
  | 106 => 0x3F3573F1#32
  | 107 => 0xBC275975#32
  | 108 => 0xBF5D268C#32
  | 109 => 0x3FEE9A89#32
  | 110 => 0xBEED9557#32
  | 111 => 0xBF177695#32
  | 112 => 0xBFD3890C#32
  | 113 => 0x4008B7DD#32
  | 114 => 0x401D0740#32
  | 115 => 0x3EFEB38C#32
  | 116 => 0xBDE949DC#32
  | 117 => 0x4019454E#32
  | 118 => 0xBECD6DC5#32
  | 119 => 0x3F8E85EA#32
  | 120 => 0x3F8A7275#32
  | 121 => 0x400CCDD2#32
  | 122 => 0xBF6C9037#32
  | 123 => 0x3E2DEBF0#32
  | 124 => 0x3FE46B92#32
  | 125 => 0x40227FEC#32
  | 126 => 0x3F98823A#32
  | 127 => 0x3CB12A6A#32
  | _ => 0#32

noncomputable abbrev lit0t0_858 (i : Nat) : BitVec 32 := match i % 128 with
  | 0 => 0xBE2EE1C9#32
  | 1 => 0xBF3BA571#32
  | 2 => 0x40A083EF#32
  | 3 => 0xBE16DE18#32
  | 4 => 0x3F65FA16#32
  | 5 => 0xBD1A124C#32
  | 6 => 0xBF0FD35C#32
  | 7 => 0x3CB75817#32
  | 8 => 0x3F9C853B#32
  | 9 => 0x3FD8A939#32
  | 10 => 0xBF0EF851#32
  | 11 => 0x3EA46B41#32
  | 12 => 0xBE061E82#32
  | 13 => 0x40DFF86E#32
  | 14 => 0x3FF0F870#32
  | 15 => 0x3DA7E2C0#32
  | 16 => 0x3FE67B07#32
  | 17 => 0xBDF86B28#32
  | 18 => 0x3EDCF557#32
  | 19 => 0xBE7A57A0#32
  | 20 => 0x3FA8969A#32
  | 21 => 0x3FABBC6C#32
  | 22 => 0xBF3A1D8D#32
  | 23 => 0xBEE6B407#32
  | 24 => 0x3F5DCDB4#32
  | 25 => 0x3D0DE3F4#32
  | 26 => 0x3E132546#32
  | 27 => 0x3F3788E3#32
  | 28 => 0xBF4F450C#32
  | 29 => 0x3FE43684#32
  | 30 => 0x3EEF0A3C#32
  | 31 => 0x3EF45098#32
  | 32 => 0x3F9236AE#32
  | 33 => 0xBF90851C#32
  | 34 => 0x3F77ABC2#32
  | 35 => 0xBD61B8C6#32
  | 36 => 0xBF485E02#32
  | 37 => 0xBF7D2B8D#32
  | 38 => 0x3F3989A8#32
  | 39 => 0xBE9AC19F#32
  | 40 => 0x3EB0E41A#32
  | 41 => 0x40236FE0#32
  | 42 => 0xBF057ACB#32
  | 43 => 0x4043D662#32
  | 44 => 0x3FAAD881#32
  | 45 => 0xBECC232A#32
  | 46 => 0x3E56CB86#32
  | 47 => 0x3E5BFE03#32
  | 48 => 0x3D7550F3#32
  | 49 => 0xBF9F366C#32
  | 50 => 0xBF85285E#32
  | 51 => 0xBE1156B9#32
  | 52 => 0xBF3C3ED5#32
  | 53 => 0xBE6A6B5A#32
  | 54 => 0x3F1B2609#32
  | 55 => 0x3F791131#32
  | 56 => 0x3FECFFA7#32
  | 57 => 0x400036EA#32
  | 58 => 0xBF356FE4#32
  | 59 => 0x4024D173#32
  | 60 => 0x3DCD85B3#32
  | 61 => 0xBEF9A0C6#32
  | 62 => 0x40014885#32
  | 63 => 0xBF8A2680#32
  | 64 => 0x3F4FA7E7#32
  | 65 => 0xBF072824#32
  | 66 => 0xBF84B295#32
  | 67 => 0x3F20A812#32
  | 68 => 0x3F2AF83C#32
  | 69 => 0x3F2B67AA#32
  | 70 => 0x40067967#32
  | 71 => 0xBF9FE38D#32
  | 72 => 0xBF5EBE4A#32
  | 73 => 0x3EA20760#32
  | 74 => 0x3B8D7911#32
  | 75 => 0x3F44E255#32
  | 76 => 0x3F4AB80D#32
  | 77 => 0xBF56A867#32
  | 78 => 0x3F4EFE15#32
  | 79 => 0xBED6960C#32
  | 80 => 0x3FE665EB#32
  | 81 => 0x3EB3B3E9#32
  | 82 => 0xBF3D7616#32
  | 83 => 0x3F22C6D8#32
  | 84 => 0x3FCD8EB5#32
  | 85 => 0xBF5204C2#32
  | 86 => 0x3F2ECB9E#32
  | 87 => 0x403C1129#32
  | 88 => 0x3F236239#32
  | 89 => 0x3F6A3C05#32
  | 90 => 0xBDC086C4#32
  | 91 => 0x3E702302#32
  | 92 => 0x40129569#32
  | 93 => 0x3F0DF9B1#32
  | 94 => 0xBFA0C367#32
  | 95 => 0x3F02862A#32
  | 96 => 0x3FD02ECC#32
  | 97 => 0x3F82DE63#32
  | 98 => 0x3ED4F2F8#32
  | 99 => 0x3F131DC3#32
  | 100 => 0xBD374848#32
  | 101 => 0xBF8E836B#32
  | 102 => 0x3F331DEB#32
  | 103 => 0xBE5C56C4#32
  | 104 => 0x3F7B891B#32
  | 105 => 0x3ED13088#32
  | 106 => 0x3E863AB3#32
  | 107 => 0xBE1AF367#32
  | 108 => 0x3EEAFCB0#32
  | 109 => 0x402ADA99#32
  | 110 => 0x3E462C53#32
  | 111 => 0x4002E3C0#32
  | 112 => 0x3E1873C3#32
  | 113 => 0x3FEDF45F#32
  | 114 => 0xBF85BA91#32
  | 115 => 0xBF5C2A5C#32
  | 116 => 0xBEB1DCDD#32
  | 117 => 0x402DD44C#32
  | 118 => 0xBC83A389#32
  | 119 => 0xBFC6E910#32
  | 120 => 0x3E773026#32
  | 121 => 0xBE51CAEB#32
  | 122 => 0xBF31194E#32
  | 123 => 0x4011170F#32
  | 124 => 0xBF8B2B39#32
  | 125 => 0xBF609A8D#32
  | 126 => 0xBF4502C4#32
  | 127 => 0x3FDF5E42#32
  | _ => 0#32

noncomputable abbrev lit0t0_859 (i : Nat) : BitVec 32 := match i % 128 with
  | 0 => 0x40493C8A#32
  | 1 => 0x408593DD#32
  | 2 => 0xBE6F436F#32
  | 3 => 0x3F5BB4BD#32
  | 4 => 0x4048C0C8#32
  | 5 => 0x3E462D07#32
  | 6 => 0x400EC532#32
  | 7 => 0x3D550A8F#32
  | 8 => 0x3D8243D6#32
  | 9 => 0xBEAF299E#32
  | 10 => 0x3FFBF30B#32
  | 11 => 0xBF6631EA#32
  | 12 => 0xBCD3914D#32
  | 13 => 0xBF774B7A#32
  | 14 => 0x3FB00214#32
  | 15 => 0x40A29D30#32
  | 16 => 0x3F5B95B6#32
  | 17 => 0x3E70A696#32
  | 18 => 0x3E3BAE1F#32
  | 19 => 0x3FC34B7E#32
  | 20 => 0x3F8F44D3#32
  | 21 => 0x3FB47D79#32
  | 22 => 0x406EACD6#32
  | 23 => 0xBE86BA58#32
  | 24 => 0x3F8E4F01#32
  | 25 => 0x40249CF4#32
  | 26 => 0xBE9900B9#32
  | 27 => 0x3E949746#32
  | 28 => 0x3EBA4293#32
  | 29 => 0x3FC7FB47#32
  | 30 => 0xBF1A2916#32
  | 31 => 0xBE164CE8#32
  | 32 => 0xBEECAE4E#32
  | 33 => 0x3FDF9F02#32
  | 34 => 0x3F8295E1#32
  | 35 => 0x3F8752C2#32
  | 36 => 0x3D918E01#32
  | 37 => 0x3E646866#32
  | 38 => 0xBE87C1FC#32
  | 39 => 0x3FC014F7#32
  | 40 => 0xBEA57CAC#32
  | 41 => 0x3E145EC6#32
  | 42 => 0x3F38545F#32
  | 43 => 0xBF90A504#32
  | 44 => 0x3F21B304#32
  | 45 => 0xBF4BDB2F#32
  | 46 => 0xBEB3C0F0#32
  | 47 => 0x3F9F1A1A#32
  | 48 => 0x405019C1#32
  | 49 => 0x3EC9CC23#32
  | 50 => 0x3F4DB547#32
  | 51 => 0xBFD19BF4#32
  | 52 => 0x40304B90#32
  | 53 => 0x3EE201B4#32
  | 54 => 0x403D4452#32
  | 55 => 0xBFABA186#32
  | 56 => 0x3FFB899E#32
  | 57 => 0x3E903E9C#32
  | 58 => 0x3E1C4824#32
  | 59 => 0x3DE62ADF#32
  | 60 => 0xBFC2DA8A#32
  | 61 => 0xBEF93612#32
  | 62 => 0x3EAE20EF#32
  | 63 => 0x3FD5F82E#32
  | 64 => 0x3F2C8D16#32
  | 65 => 0x3E268092#32
  | 66 => 0x3F199C71#32
  | 67 => 0x3FDEF638#32
  | 68 => 0x3FA8EC4D#32
  | 69 => 0x3F3423FF#32
  | 70 => 0x3F334271#32
  | 71 => 0xBE3109C4#32
  | 72 => 0x3F9A1004#32
  | 73 => 0x3EC03BDB#32
  | 74 => 0x3F39C6B1#32
  | 75 => 0x3FCF0D5E#32
  | 76 => 0x401025B8#32
  | 77 => 0xBF35D09E#32
  | 78 => 0x3FADF152#32
  | 79 => 0x3E325032#32
  | 80 => 0xBFF1A96B#32
  | 81 => 0xBD57F358#32
  | 82 => 0x40344D8B#32
  | 83 => 0xBE4B7A45#32
  | 84 => 0x3FA0119D#32
  | 85 => 0x3FC8324E#32
  | 86 => 0x3F345441#32
  | 87 => 0x3EBB5810#32
  | 88 => 0x3E4606A3#32
  | 89 => 0x3F2A4DE9#32
  | 90 => 0xBF2FB97D#32
  | 91 => 0x3FE61F41#32
  | 92 => 0x40564C87#32
  | 93 => 0xBFD0165F#32
  | 94 => 0x40AD0B75#32
  | 95 => 0x3F879F5C#32
  | 96 => 0xBE158604#32
  | 97 => 0x40468D26#32
  | 98 => 0x3F00FEF4#32
  | 99 => 0x3F5684E7#32
  | 100 => 0x3F5AE0C9#32
  | 101 => 0x3AD7473C#32
  | 102 => 0xBD7BD215#32
  | 103 => 0x3E872248#32
  | 104 => 0x3BAA96FB#32
  | 105 => 0x3FD9538B#32
  | 106 => 0x40451F1E#32
  | 107 => 0xBE9B883B#32
  | 108 => 0x4007B5AF#32
  | 109 => 0x3FF56C88#32
  | 110 => 0x402603BE#32
  | 111 => 0x40025204#32
  | 112 => 0xBEC18A66#32
  | 113 => 0x3E834A36#32
  | 114 => 0x40199986#32
  | 115 => 0xBF8EAC1B#32
  | 116 => 0xBE8B4F6E#32
  | 117 => 0x4016CFD6#32
  | 118 => 0xBDA21077#32
  | 119 => 0xBF34685F#32
  | 120 => 0x404A5FDE#32
  | 121 => 0x408FCD56#32
  | 122 => 0xBEA8601C#32
  | 123 => 0x3F5DB7F9#32
  | 124 => 0xBF1BD420#32
  | 125 => 0xBF0AAE60#32
  | 126 => 0xBEDAA9D8#32
  | 127 => 0x3FB1FF74#32
  | _ => 0#32

noncomputable abbrev lit0t0_860 (i : Nat) : BitVec 32 := match i % 128 with
  | 0 => 0x405B2C87#32
  | 1 => 0xBF9154E8#32
  | 2 => 0x4026A803#32
  | 3 => 0xBF2D213E#32
  | 4 => 0xBE66C500#32
  | 5 => 0x3F8C92AA#32
  | 6 => 0xBF199553#32
  | 7 => 0x3F728C89#32
  | 8 => 0xBF68565E#32
  | 9 => 0x3F303513#32
  | 10 => 0x3E480880#32
  | 11 => 0xBD7E0EF7#32
  | 12 => 0x3C086168#32
  | 13 => 0xBF607204#32
  | 14 => 0x3FFFB07F#32
  | 15 => 0x3F5BB93E#32
  | 16 => 0x4087302E#32
  | 17 => 0x3F06628D#32
  | 18 => 0x3D727931#32
  | 19 => 0x3DCE9C7B#32
  | 20 => 0x3DE51EB6#32
  | 21 => 0x40445648#32
  | 22 => 0x401F0C47#32
  | 23 => 0xBF477466#32
  | 24 => 0x3E77AC84#32
  | 25 => 0x3FD31023#32
  | 26 => 0x3ED6923E#32
  | 27 => 0x3F2B65E3#32
  | 28 => 0xBEE8D494#32
  | 29 => 0x401CABF2#32
  | 30 => 0x408C1D9A#32
  | 31 => 0x3EA6EE14#32
  | 32 => 0xBF3F482C#32
  | 33 => 0x3FB0BCD5#32
  | 34 => 0x3F8A6CEE#32
  | 35 => 0xBFAF86E7#32
  | 36 => 0x3D45770A#32
  | 37 => 0x3D66D8EB#32
  | 38 => 0xBDACFDB7#32
  | 39 => 0x3E8B3A3D#32
  | 40 => 0xBE780EF7#32
  | 41 => 0x3F199654#32
  | 42 => 0x3F840B49#32
  | 43 => 0xBDBCFC42#32
  | 44 => 0x3DB42B6C#32
  | 45 => 0x3F0AD307#32
  | 46 => 0x3F6C35C5#32
  | 47 => 0x3F94ED08#32
  | 48 => 0x3E565E73#32
  | 49 => 0x401E0C58#32
  | 50 => 0xBF5B7CC5#32
  | 51 => 0xBE5DC8F9#32
  | 52 => 0x3E6DC0EE#32
  | 53 => 0xBE85C8AC#32
  | 54 => 0x40140A93#32
  | 55 => 0xBE4B2E59#32
  | 56 => 0xBFC59CFB#32
  | 57 => 0xBE0697DE#32
  | 58 => 0x3F945BBD#32
  | 59 => 0xBE2B651B#32
  | 60 => 0x3F3B72E5#32
  | 61 => 0xBED676EE#32
  | 62 => 0x3F077139#32
  | 63 => 0xBE4D98A3#32
  | 64 => 0x3F122239#32
  | 65 => 0x400C778C#32
  | 66 => 0x3F9C898F#32
  | 67 => 0x3EC31EBD#32
  | 68 => 0xBF9BE3EC#32
  | 69 => 0x3F533FFD#32
  | 70 => 0xBEDB1261#32
  | 71 => 0x3CBD4349#32
  | 72 => 0x3F827AA6#32
  | 73 => 0x3F5B1873#32
  | 74 => 0x3E77B043#32
  | 75 => 0x3F2FEC08#32
  | 76 => 0x400783CF#32
  | 77 => 0xBCE48E25#32
  | 78 => 0x3F94134C#32
  | 79 => 0xBEEC7FA7#32
  | 80 => 0xBE3B18E4#32
  | 81 => 0x3F5C08C4#32
  | 82 => 0x3F81A42E#32
  | 83 => 0xBF5B0617#32
  | 84 => 0xBE058B03#32
  | 85 => 0x3ECF6D95#32
  | 86 => 0x3F659F15#32
  | 87 => 0x409C4839#32
  | 88 => 0xBF82F88E#32
  | 89 => 0x3F9DC7F5#32
  | 90 => 0xBF3DAF16#32
  | 91 => 0x3F9282ED#32
  | 92 => 0x3EE98E4A#32
  | 93 => 0x3E99FDB9#32
  | 94 => 0x3FD86E27#32
  | 95 => 0x3F3637F9#32
  | 96 => 0xBF976C6B#32
  | 97 => 0xBEE165A7#32
  | 98 => 0xBD0898E0#32
  | 99 => 0x3E809264#32
  | 100 => 0x3FB64BAB#32
  | 101 => 0x3EBC041A#32
  | 102 => 0xBF93E6AA#32
  | 103 => 0x407CB030#32
  | 104 => 0xBF95EAC0#32
  | 105 => 0x3F4126F7#32
  | 106 => 0xBD10DA9E#32
  | 107 => 0xBF1E25BC#32
  | 108 => 0x3E0CD8CC#32
  | 109 => 0xBFA0BE69#32
  | 110 => 0x3EF48F2B#32
  | 111 => 0x3E02A476#32
  | 112 => 0x3FFA1378#32
  | 113 => 0x3F515E7C#32
  | 114 => 0x3D02E66F#32
  | 115 => 0x3F5144A6#32
  | 116 => 0x3EF64C69#32
  | 117 => 0x3BD5B0FD#32
  | 118 => 0xBF78D866#32
  | 119 => 0xBF6D369A#32
  | 120 => 0x3E524167#32
  | 121 => 0x3F81FD06#32
  | 122 => 0x3F1D6F9C#32
  | 123 => 0x3E435787#32
  | 124 => 0xBF9C0DC5#32
  | 125 => 0x3EF0D826#32
  | 126 => 0xBEEBCE87#32
  | 127 => 0xBF3E95D6#32
  | _ => 0#32

noncomputable abbrev lit0t0_861 (i : Nat) : BitVec 32 := match i % 128 with
  | 0 => 0x3E32132F#32
  | 1 => 0x3EF4737C#32
  | 2 => 0x3F304D22#32
  | 3 => 0x3D8FDA59#32
  | 4 => 0x3F9D53FE#32
  | 5 => 0x3FE30C48#32
  | 6 => 0x3F2510A0#32
  | 7 => 0xBF039948#32
  | 8 => 0xBF83B520#32
  | 9 => 0x3D9F19E4#32
  | 10 => 0x3F26CAEA#32
  | 11 => 0xBF7FA177#32
  | 12 => 0x3F736367#32
  | 13 => 0xBF7CCAF2#32
  | 14 => 0x3F839E1F#32
  | 15 => 0x3FEC7136#32
  | 16 => 0xBF2F0E0E#32
  | 17 => 0x3F555DD8#32
  | 18 => 0xBF813426#32
  | 19 => 0xBF3EDC96#32
  | 20 => 0xBC6DFE58#32
  | 21 => 0x3E9C1987#32
  | 22 => 0xBBD3F226#32
  | 23 => 0x3B757789#32
  | 24 => 0x3F247601#32
  | 25 => 0x3F8E73B7#32
  | 26 => 0xBF22F1BA#32
  | 27 => 0x3F1DD0E1#32
  | 28 => 0x3FF012AE#32
  | 29 => 0x406E64D5#32
  | 30 => 0x3E9BB3BE#32
  | 31 => 0x3D0B7E4B#32
  | 32 => 0x3FC461C1#32
  | 33 => 0x3F053627#32
  | 34 => 0x3F79B702#32
  | 35 => 0x3F03D288#32
  | 36 => 0x3E83925C#32
  | 37 => 0x3D86FD11#32
  | 38 => 0xBDE3B568#32
  | 39 => 0x3EB73B78#32
  | 40 => 0x3C94EC52#32
  | 41 => 0xBF950368#32
  | 42 => 0x3EE17E22#32
  | 43 => 0x3D3DBE69#32
  | 44 => 0xBF6AEC00#32
  | 45 => 0xBEB3EB9B#32
  | 46 => 0xBFE66FC2#32
  | 47 => 0x3F6A9EDA#32
  | 48 => 0x3FEA7671#32
  | 49 => 0xBF16E8B7#32
  | 50 => 0xBE523CE8#32
  | 51 => 0x3FAB65AE#32
  | 52 => 0x3FC51D6C#32
  | 53 => 0x40241F74#32
  | 54 => 0x3FFAAC2A#32
  | 55 => 0xBEF59B1C#32
  | 56 => 0xBF4162E3#32
  | 57 => 0x3F90921F#32
  | 58 => 0xBF7BD9C8#32
  | 59 => 0xBF39E979#32
  | 60 => 0xBFC59048#32
  | 61 => 0x3EBECED1#32
  | 62 => 0xBF5B2771#32
  | 63 => 0x3F2D768D#32
  | 64 => 0x3F72C5CE#32
  | 65 => 0xBEB09B08#32
  | 66 => 0x40077661#32
  | 67 => 0x3D95C86E#32
  | 68 => 0x403B86B3#32
  | 69 => 0x3E5D4CBE#32
  | 70 => 0x3ED6D114#32
  | 71 => 0x3FF31A6D#32
  | 72 => 0x3EB767A4#32
  | 73 => 0x405C9668#32
  | 74 => 0x3F9C10A9#32
  | 75 => 0x3F544430#32
  | 76 => 0x4047D8F0#32
  | 77 => 0x3FAFC561#32
  | 78 => 0x404FEDD0#32
  | 79 => 0x3F712E52#32
  | 80 => 0x3F2B9406#32
  | 81 => 0x3F1AAE88#32
  | 82 => 0xBE54D811#32
  | 83 => 0x3FE5251E#32
  | 84 => 0x3FCED7FA#32
  | 85 => 0xBF9D6823#32
  | 86 => 0xBFB0EB1D#32
  | 87 => 0x3FEC1D02#32
  | 88 => 0x3FAFE6D5#32
  | 89 => 0x3F95A2F4#32
  | 90 => 0x3FECBD46#32
  | 91 => 0xBEE96750#32
  | 92 => 0x3FA007FC#32
  | 93 => 0x3F2C58BC#32
  | 94 => 0x3F3583A6#32
  | 95 => 0x3F20C3AC#32
  | 96 => 0x3DBF86B1#32
  | 97 => 0x3EFE2378#32
  | 98 => 0xBE8C376A#32
  | 99 => 0xBE7E48F3#32
  | 100 => 0x3FADAE93#32
  | 101 => 0xBDD536FE#32
  | 102 => 0x40176437#32
  | 103 => 0x3F8759C6#32
  | 104 => 0xBD27F078#32
  | 105 => 0x3C819232#32
  | 106 => 0xBF538516#32
  | 107 => 0x3F9CC241#32
  | 108 => 0x3FC1B7BE#32
  | 109 => 0xBF57F286#32
  | 110 => 0xBDADCD8A#32
  | 111 => 0x3FD8681C#32
  | 112 => 0x3D0A17A8#32
  | 113 => 0xBE042944#32
  | 114 => 0x3E062936#32
  | 115 => 0x3E3B62B5#32
  | 116 => 0xBE8FC9BC#32
  | 117 => 0x3F7C56AF#32
  | 118 => 0x405CAA1A#32
  | 119 => 0x3ECC1434#32
  | 120 => 0xBF2705DF#32
  | 121 => 0x401A7D0E#32
  | 122 => 0x3E091026#32
  | 123 => 0x3FD97DCA#32
  | 124 => 0x3F84A138#32
  | 125 => 0x3FEF312C#32
  | 126 => 0x3F19A99B#32
  | 127 => 0x3ECED4CA#32
  | _ => 0#32

noncomputable abbrev lit0t0_862 (i : Nat) : BitVec 32 := match i % 128 with
  | 0 => 0x3EC1CB11#32
  | 1 => 0xBEE437C0#32
  | 2 => 0x40241CEE#32
  | 3 => 0xBEBDE25E#32
  | 4 => 0x401A46E6#32
  | 5 => 0xBE548B5D#32
  | 6 => 0x40016F83#32
  | 7 => 0xBEE3FBF5#32
  | 8 => 0x3F214710#32
  | 9 => 0xBFF7EFE2#32
  | 10 => 0x40294EAF#32
  | 11 => 0xBF8F0D39#32
  | 12 => 0x3F9C16C2#32
  | 13 => 0x3ED91454#32
  | 14 => 0x3FD5668A#32
  | 15 => 0xBEBE62CC#32
  | 16 => 0xBE59B07D#32
  | 17 => 0x3F9FB482#32
  | 18 => 0xBF4F5E69#32
  | 19 => 0x400DEA27#32
  | 20 => 0x3EA6E404#32
  | 21 => 0x3F30DDE5#32
  | 22 => 0x3E929673#32
  | 23 => 0xBEC8CE94#32
  | 24 => 0x404145C8#32
  | 25 => 0x3F6EA970#32
  | 26 => 0x40009ACA#32
  | 27 => 0xBF88ED79#32
  | 28 => 0x3FA20084#32
  | 29 => 0xBF37C10E#32
  | 30 => 0x3EBD94C5#32
  | 31 => 0xBF07F812#32
  | 32 => 0xBF6ACF96#32
  | 33 => 0x3EAEFD47#32
  | 34 => 0x3F80026A#32
  | 35 => 0x3F2F20CA#32
  | 36 => 0x3FC631B4#32
  | 37 => 0x3FB3B86E#32
  | 38 => 0x3FF2F8DB#32
  | 39 => 0x3DFAEA93#32
  | 40 => 0x403C8AE8#32
  | 41 => 0xBF1CEDA7#32
  | 42 => 0x3F78F70C#32
  | 43 => 0x3E25410D#32
  | 44 => 0x3F8C7069#32
  | 45 => 0xBEBDCF44#32
  | 46 => 0xBF0D88E7#32
  | 47 => 0x4015A75D#32
  | 48 => 0x3FC02574#32
  | 49 => 0x3FFE04BB#32
  | 50 => 0x3F999EE6#32
  | 51 => 0xBE6E20B7#32
  | 52 => 0xBEDBDFE9#32
  | 53 => 0x40603F9E#32
  | 54 => 0xBF3923AF#32
  | 55 => 0x3F46FB68#32
  | 56 => 0x3EB5F6A1#32
  | 57 => 0xBF474FA5#32
  | 58 => 0x3FD0ED18#32
  | 59 => 0x3DB2737B#32
  | 60 => 0x403EC286#32
  | 61 => 0x3DF2C957#32
  | 62 => 0x3F012390#32
  | 63 => 0x3FA1CF92#32
  | 64 => 0xBFF09BC7#32
  | 65 => 0xBE4B5B8C#32
  | 66 => 0xBE891561#32
  | 67 => 0x3F21D43B#32
  | 68 => 0x3ED80268#32
  | 69 => 0xBF51BDAB#32
  | 70 => 0xBF60C573#32
  | 71 => 0xBF2A5481#32
  | 72 => 0xBEBB9C1F#32
  | 73 => 0x3F008AA8#32
  | 74 => 0x3CA6D38D#32
  | 75 => 0x3FC45F76#32
  | 76 => 0x3FA1605E#32
  | 77 => 0xBF292178#32
  | 78 => 0xBBD85FB7#32
  | 79 => 0x3F3753E5#32
  | 80 => 0x3E419E48#32
  | 81 => 0xBD79A7D2#32
  | 82 => 0xBF83DD28#32
  | 83 => 0xBEDC85BA#32
  | 84 => 0xBF25ED37#32
  | 85 => 0x3FBDDCBC#32
  | 86 => 0xBEBBB8FE#32
  | 87 => 0x3FCCEAE5#32
  | 88 => 0x3F9FB11E#32
  | 89 => 0xBF87DFAC#32
  | 90 => 0x3EFDFED0#32
  | 91 => 0x4006B6C0#32
  | 92 => 0x3E39645A#32
  | 93 => 0xBE3EF56B#32
  | 94 => 0xBE9258E7#32
  | 95 => 0x3FDE80A7#32
  | 96 => 0x3FD16C2C#32
  | 97 => 0x3FCEBD1A#32
  | 98 => 0x400B608B#32
  | 99 => 0x3EFEE033#32
  | 100 => 0x3F141524#32
  | 101 => 0x3EDF4257#32
  | 102 => 0xBE73FEB9#32
  | 103 => 0x3E37CFB6#32
  | 104 => 0xBE5DD6E9#32
  | 105 => 0x3FB4EF6A#32
  | 106 => 0xBFA24EB2#32
  | 107 => 0x3EC8BD05#32
  | 108 => 0x401EB3E8#32
  | 109 => 0xBF0B0CCB#32
  | 110 => 0x3F87B8B6#32
  | 111 => 0x3F3DDC6D#32
  | 112 => 0x40269010#32
  | 113 => 0xBF82F157#32
  | 114 => 0xBE96FD76#32
  | 115 => 0x3F7605A5#32
  | 116 => 0x3F409632#32
  | 117 => 0xBED721B5#32
  | 118 => 0x3FECEDF5#32
  | 119 => 0x3FCE611C#32
  | 120 => 0xBF14A138#32
  | 121 => 0xBF8E0D52#32
  | 122 => 0x3F86223D#32
  | 123 => 0xBE760F4D#32
  | 124 => 0xBE2E81E0#32
  | 125 => 0x3F10E100#32
  | 126 => 0xBEEE2D9A#32
  | 127 => 0x3FD58F33#32
  | _ => 0#32

noncomputable abbrev lit0t0_863 (i : Nat) : BitVec 32 := match i % 128 with
  | 0 => 0x3FE0E503#32
  | 1 => 0xBE4B83A5#32
  | 2 => 0x3FF85C72#32
  | 3 => 0xBFAF4175#32
  | 4 => 0x3D1ED229#32
  | 5 => 0xBE0F798D#32
  | 6 => 0xBE96DC17#32
  | 7 => 0xBF888A47#32
  | 8 => 0xBF249802#32
  | 9 => 0xBDA47B6A#32
  | 10 => 0x3C4B45FB#32
  | 11 => 0x3FAEF576#32
  | 12 => 0xBF95443A#32
  | 13 => 0xBF22A26C#32
  | 14 => 0xBF7A6337#32
  | 15 => 0x3FBBA6B3#32
  | 16 => 0x404897C6#32
  | 17 => 0x3EE80448#32
  | 18 => 0xBF0748AA#32
  | 19 => 0x3EBC5A40#32
  | 20 => 0x3C21A1EF#32
  | 21 => 0x3F4DD0A4#32
  | 22 => 0xBE89CD0E#32
  | 23 => 0x3F802DC8#32
  | 24 => 0x4031360E#32
  | 25 => 0x3FC2267F#32
  | 26 => 0x3FEA9342#32
  | 27 => 0xBE2CA420#32
  | 28 => 0xBF3207CC#32
  | 29 => 0xBE8412DE#32
  | 30 => 0x3FF80811#32
  | 31 => 0x389D6183#32
  | 32 => 0x3F7FCBD6#32
  | 33 => 0x3E99FEDF#32
  | 34 => 0x3F32FDE5#32
  | 35 => 0x3FC36FB2#32
  | 36 => 0x3C123AD0#32
  | 37 => 0xBEE82602#32
  | 38 => 0xBD9EF188#32
  | 39 => 0x3F8A6BF5#32
  | 40 => 0x3F9FC46D#32
  | 41 => 0xBEBE4070#32
  | 42 => 0x405509C5#32
  | 43 => 0xBEFD05AA#32
  | 44 => 0xBF915CD6#32
  | 45 => 0x3E913DBE#32
  | 46 => 0x3E08D0EB#32
  | 47 => 0xBCC2B4AE#32
  | 48 => 0xBF35EEDF#32
  | 49 => 0x3FA01EFC#32
  | 50 => 0x403D4FCF#32
  | 51 => 0x3DC92C57#32
  | 52 => 0x3EEB1963#32
  | 53 => 0x3EF40B88#32
  | 54 => 0x3F8085CA#32
  | 55 => 0x3F918A55#32
  | 56 => 0xBD490476#32
  | 57 => 0xBF88C715#32
  | 58 => 0x3FB559EF#32
  | 59 => 0x3FBD0BEF#32
  | 60 => 0x3EBA7C82#32
  | 61 => 0xBF6834F8#32
  | 62 => 0xBF50CF78#32
  | 63 => 0x3FFDC670#32
  | 64 => 0x3F06A0A0#32
  | 65 => 0xBF80778F#32
  | 66 => 0xBF5FF50E#32
  | 67 => 0x3DAEA60D#32
  | 68 => 0x3E747C6C#32
  | 69 => 0x3F145646#32
  | 70 => 0x3E13D407#32
  | 71 => 0x3F46864E#32
  | 72 => 0xBDE51992#32
  | 73 => 0xBF29C5E0#32
  | 74 => 0xBE509CE1#32
  | 75 => 0xBF166973#32
  | 76 => 0x3FEE1EB2#32
  | 77 => 0x40B6824B#32
  | 78 => 0xBFC6BF24#32
  | 79 => 0xBDB34949#32
  | 80 => 0xBE9C6FF7#32
  | 81 => 0x3FE6F736#32
  | 82 => 0xBEAFFAC1#32
  | 83 => 0xBE14A722#32
  | 84 => 0x3E52B68B#32
  | 85 => 0x3F8E1C58#32
  | 86 => 0xBF8D644C#32
  | 87 => 0x3F48CAC1#32
  | 88 => 0x3FC826A9#32
  | 89 => 0x3F265004#32
  | 90 => 0xBF8E0F3E#32
  | 91 => 0xBEC6FF10#32
  | 92 => 0x3FAA9ED9#32
  | 93 => 0x3FC985B2#32
  | 94 => 0xBE94354B#32
  | 95 => 0xBEED7092#32
  | 96 => 0x400552BE#32
  | 97 => 0x3F5D5464#32
  | 98 => 0xBF2B50CB#32
  | 99 => 0x3EB14616#32
  | 100 => 0x3D5438F4#32
  | 101 => 0x3E2A0F95#32
  | 102 => 0xBE077E0B#32
  | 103 => 0xBF67C481#32
  | 104 => 0x3EC6A6E4#32
  | 105 => 0x3E61FA43#32
  | 106 => 0xBEB20ABD#32
  | 107 => 0x3F1C1057#32
  | 108 => 0x3EDF5A6D#32
  | 109 => 0x3FB9FA48#32
  | 110 => 0x3FEDAE0A#32
  | 111 => 0x3F245C93#32
  | 112 => 0x3F3D45A4#32
  | 113 => 0xBEF20E36#32
  | 114 => 0x3F50B102#32
  | 115 => 0xBFB23B03#32
  | 116 => 0x3FF55F73#32
  | 117 => 0x4002A9FB#32
  | 118 => 0x3FA543D6#32
  | 119 => 0x3FB287D0#32
  | 120 => 0x3E87A555#32
  | 121 => 0x3F52FE5A#32
  | 122 => 0x405FB38C#32
  | 123 => 0xBFC7CE3C#32
  | 124 => 0x403F72FD#32
  | 125 => 0x3EDD4A25#32
  | 126 => 0x4096B587#32
  | 127 => 0xBE763366#32
  | _ => 0#32

noncomputable abbrev lit0t0_864 (i : Nat) : BitVec 32 := match i % 128 with
  | 0 => 0x4023B42D#32
  | 1 => 0x3F627CD3#32
  | 2 => 0x3F5E41CA#32
  | 3 => 0x3E4129C3#32
  | 4 => 0x400BF178#32
  | 5 => 0x3E0B0C9F#32
  | 6 => 0xBF9B4427#32
  | 7 => 0x3EAC43DB#32
  | 8 => 0x40184891#32
  | 9 => 0xBF09DF76#32
  | 10 => 0x3EBAD039#32
  | 11 => 0xBC5987AD#32
  | 12 => 0x3ECB5344#32
  | 13 => 0xBF966B54#32
  | 14 => 0x3E93A44D#32
  | 15 => 0x3FA2213B#32
  | 16 => 0xBF558FDE#32
  | 17 => 0xBEC8D6A8#32
  | 18 => 0xBF64D793#32
  | 19 => 0xBF0E6890#32
  | 20 => 0xBE626CF5#32
  | 21 => 0x3FCFFC0B#32
  | 22 => 0x3F9DD37D#32
  | 23 => 0x3FA760FB#32
  | 24 => 0xBDD4F4B3#32
  | 25 => 0xBF503557#32
  | 26 => 0x3FEFD9CE#32
  | 27 => 0x3F1EEBE0#32
  | 28 => 0xBF8AD391#32
  | 29 => 0x3E5ED43D#32
  | 30 => 0xBE710A93#32
  | 31 => 0xBF6D6FA2#32
  | 32 => 0xBE826149#32
  | 33 => 0xBE162FB6#32
  | 34 => 0x3EB86A90#32
  | 35 => 0xBF0CF9A4#32
  | 36 => 0x3EE62E34#32
  | 37 => 0x3F9D7E40#32
  | 38 => 0x3EB9FBFE#32
  | 39 => 0xBD81FC58#32
  | 40 => 0xBEF0126E#32
  | 41 => 0x3FE30119#32
  | 42 => 0x4024A414#32
  | 43 => 0x3D5D16D6#32
  | 44 => 0x40005EC3#32
  | 45 => 0x3FA84FDA#32
  | 46 => 0xBEB06242#32
  | 47 => 0x3EE9B348#32
  | 48 => 0x3FD3D2C5#32
  | 49 => 0xBF4674A3#32
  | 50 => 0x3E089CEB#32
  | 51 => 0x403F0251#32
  | 52 => 0xBF7F676C#32
  | 53 => 0xBF8528D0#32
  | 54 => 0x3E82B75B#32
  | 55 => 0xBEA24B66#32
  | 56 => 0xBF70D224#32
  | 57 => 0xBFACC270#32
  | 58 => 0xBF68E076#32
  | 59 => 0xBD0E42EB#32
  | 60 => 0x3F7E7B42#32
  | 61 => 0x3EBB2566#32
  | 62 => 0x4083D41C#32
  | 63 => 0x3F0D0B13#32
  | 64 => 0x3F460B9E#32
  | 65 => 0x3F910055#32
  | 66 => 0x3FF464F4#32
  | 67 => 0x3F91C5F2#32
  | 68 => 0x3F34DFB6#32
  | 69 => 0xBEFBB5C4#32
  | 70 => 0x3FAECC5B#32
  | 71 => 0x3D875EFA#32
  | 72 => 0x3F8281CB#32
  | 73 => 0xBF4E9C97#32
  | 74 => 0x401454CB#32
  | 75 => 0x4006B696#32
  | 76 => 0xBD7572AE#32
  | 77 => 0x3E66F16D#32
  | 78 => 0x3F831603#32
  | 79 => 0x3F35A84C#32
  | 80 => 0x3E30536D#32
  | 81 => 0xBFC1EE66#32
  | 82 => 0xBF89FA19#32
  | 83 => 0xBEA86420#32
  | 84 => 0x40396BC6#32
  | 85 => 0xBF012F93#32
  | 86 => 0x3DED5F3C#32
  | 87 => 0x3F94AA91#32
  | 88 => 0x40012D8E#32
  | 89 => 0x40279FCB#32
  | 90 => 0xBF778949#32
  | 91 => 0xBE106A95#32
  | 92 => 0x3EBF9465#32
  | 93 => 0xBF2C1A0C#32
  | 94 => 0xBF52816E#32
  | 95 => 0x3FB077EF#32
  | 96 => 0xBED262E5#32
  | 97 => 0x3FCB468C#32
  | 98 => 0xBF9CA7B6#32
  | 99 => 0x3ED957B9#32
  | 100 => 0x3F9C9289#32
  | 101 => 0xBF097902#32
  | 102 => 0xBF64E97B#32
  | 103 => 0xBD6DE2D5#32
  | 104 => 0xBEA1784B#32
  | 105 => 0x3FF2FCBB#32
  | 106 => 0xBDD974F7#32
  | 107 => 0xBF26711C#32
  | 108 => 0xBFA830BC#32
  | 109 => 0x40177065#32
  | 110 => 0x3FE10DC9#32
  | 111 => 0x402EDAA7#32
  | 112 => 0x3F8D5311#32
  | 113 => 0x3EA91536#32
  | 114 => 0x4093B6E9#32
  | 115 => 0xBF1AB410#32
  | 116 => 0x3F88702E#32
  | 117 => 0x3E0E5C70#32
  | 118 => 0xBF379B87#32
  | 119 => 0xBF16290D#32
  | 120 => 0xBF778422#32
  | 121 => 0x3F1F8523#32
  | 122 => 0xBEB932B3#32
  | 123 => 0x407C9FE2#32
  | 124 => 0x3F74E5C2#32
  | 125 => 0x3EA43B83#32
  | 126 => 0xBD2B01AC#32
  | 127 => 0x3FDD389A#32
  | _ => 0#32

noncomputable abbrev lit0t0_865 (i : Nat) : BitVec 32 := match i % 128 with
  | 0 => 0xBEC5D7AA#32
  | 1 => 0x3F8F8DB6#32
  | 2 => 0x3E3141A2#32
  | 3 => 0x3F28D9BF#32
  | 4 => 0xBF2D22A2#32
  | 5 => 0xBF260C53#32
  | 6 => 0xBF4F1CE6#32
  | 7 => 0x3F6F738E#32
  | 8 => 0x3EA9DCB0#32
  | 9 => 0xBE29F81F#32
  | 10 => 0xBFD9B9B0#32
  | 11 => 0xBC4F1C77#32
  | 12 => 0x3E313601#32
  | 13 => 0x3EB64A1F#32
  | 14 => 0x401B8C44#32
  | 15 => 0x3F764FD6#32
  | 16 => 0x3FA709BF#32
  | 17 => 0x3FCB8826#32
  | 18 => 0xBF24135A#32
  | 19 => 0x3E8D181B#32
  | 20 => 0xBF3C127A#32
  | 21 => 0xBEB8B5AD#32
  | 22 => 0xBC04C8E1#32
  | 23 => 0xBF7F6ECC#32
  | 24 => 0x3EDF1693#32
  | 25 => 0x3FB8E456#32
  | 26 => 0xBF8B4FBA#32
  | 27 => 0x403A0D67#32
  | 28 => 0x3FE5BFA4#32
  | 29 => 0xBED59E32#32
  | 30 => 0x3FC613AC#32
  | 31 => 0x3EF2192C#32
  | 32 => 0x3E91B53F#32
  | 33 => 0xBF87FF24#32
  | 34 => 0x3F91857B#32
  | 35 => 0x3F05848E#32
  | 36 => 0x3DC5215F#32
  | 37 => 0xBFBF9E11#32
  | 38 => 0x3E951C8A#32
  | 39 => 0x4022A9CB#32
  | 40 => 0x3FC1FEB8#32
  | 41 => 0x400E3ADE#32
  | 42 => 0x3F816AF9#32
  | 43 => 0x3EEBC5BD#32
  | 44 => 0x40075006#32
  | 45 => 0x3E2983E5#32
  | 46 => 0x3F55DCF5#32
  | 47 => 0x402BACF5#32
  | 48 => 0x40006CE6#32
  | 49 => 0x3F54E4D4#32
  | 50 => 0x4006F6B8#32
  | 51 => 0x3FEADDA6#32
  | 52 => 0x3F4CD152#32
  | 53 => 0xBF60E9CE#32
  | 54 => 0x3F7BB4A2#32
  | 55 => 0x3F9A67CC#32
  | 56 => 0x40454A6C#32
  | 57 => 0x3FA10E4E#32
  | 58 => 0x3FDE92BF#32
  | 59 => 0x40B5F0AC#32
  | 60 => 0xBF901ED9#32
  | 61 => 0xBD3B365B#32
  | 62 => 0xBE425C87#32
  | 63 => 0x3F9D1D59#32
  | 64 => 0xBF54A239#32
  | 65 => 0xBF2A59DE#32
  | 66 => 0xBF5F0B7F#32
  | 67 => 0xBDB5E59D#32
  | 68 => 0xBEE7C328#32
  | 69 => 0x400EBC5F#32
  | 70 => 0x3E8F65F1#32
  | 71 => 0x3F5B644A#32
  | 72 => 0x3F46BE14#32
  | 73 => 0x3F1FB2EB#32
  | 74 => 0xBF453F7C#32
  | 75 => 0xBEE61846#32
  | 76 => 0x3DD8AD6C#32
  | 77 => 0x403F16A5#32
  | 78 => 0x3F5FD332#32
  | 79 => 0x3E517BCD#32
  | 80 => 0xBEDCF4D1#32
  | 81 => 0xBF8B7FFA#32
  | 82 => 0xBEA6EC97#32
  | 83 => 0x3FD277CC#32
  | 84 => 0x4061626F#32
  | 85 => 0xBB60D12C#32
  | 86 => 0x3C19F862#32
  | 87 => 0x3FF026A6#32
  | 88 => 0xBE85D8AD#32
  | 89 => 0xBEFCBE19#32
  | 90 => 0x4007D3E7#32
  | 91 => 0xBECB441C#32
  | 92 => 0x3F21D1C7#32
  | 93 => 0x3E8305B3#32
  | 94 => 0x3FAA77D5#32
  | 95 => 0xBF252737#32
  | 96 => 0x3E97656B#32
  | 97 => 0x3E8EB397#32
  | 98 => 0x3FE0AF1D#32
  | 99 => 0x400A85BC#32
  | 100 => 0x40921C7D#32
  | 101 => 0x3F8EBDA5#32
  | 102 => 0x3FAC19A4#32
  | 103 => 0x3E110D85#32
  | 104 => 0x3ED57BF7#32
  | 105 => 0x405C1FAF#32
  | 106 => 0x3FD4B675#32
  | 107 => 0xBF568AB0#32
  | 108 => 0xBF435C25#32
  | 109 => 0x3EF5514A#32
  | 110 => 0x3F2FF640#32
  | 111 => 0x406798B4#32
  | 112 => 0xBFBA81E6#32
  | 113 => 0xBF0555FC#32
  | 114 => 0xBDD24F26#32
  | 115 => 0x3E51786E#32
  | 116 => 0x40024FC4#32
  | 117 => 0xBFB50E94#32
  | 118 => 0xBF628747#32
  | 119 => 0x3F341190#32
  | 120 => 0x401BE40C#32
  | 121 => 0xBF474A6B#32
  | 122 => 0x40567C61#32
  | 123 => 0x3BC8526F#32
  | 124 => 0x3F55E814#32
  | 125 => 0x3CC8D910#32
  | 126 => 0x3DDD5A73#32
  | 127 => 0x3FE81D24#32
  | _ => 0#32

noncomputable abbrev lit0t0_866 (i : Nat) : BitVec 32 := match i % 128 with
  | 0 => 0xBFE256EE#32
  | 1 => 0x3F3D4CCB#32
  | 2 => 0x3F55D874#32
  | 3 => 0x3E1F305F#32
  | 4 => 0xBF72CDCE#32
  | 5 => 0x3FC76E62#32
  | 6 => 0x3E50FFAC#32
  | 7 => 0x3FFA2DCC#32
  | 8 => 0x3F808838#32
  | 9 => 0x40257989#32
  | 10 => 0x401D8EC5#32
  | 11 => 0x4074F15A#32
  | 12 => 0xBD48ADB3#32
  | 13 => 0x3F9DEF25#32
  | 14 => 0x3FCDEF8C#32
  | 15 => 0x3F597246#32
  | 16 => 0x3F41C837#32
  | 17 => 0x3DE65805#32
  | 18 => 0xBF91DF8C#32
  | 19 => 0xBE5A99C2#32
  | 20 => 0x3D00B51C#32
  | 21 => 0xBE9DC1A9#32
  | 22 => 0xBF186979#32
  | 23 => 0xBF591B26#32
  | 24 => 0x3C73A06A#32
  | 25 => 0xBDB2F86D#32
  | 26 => 0x3E21594E#32
  | 27 => 0xBF0B90CB#32
  | 28 => 0x3F81C7B7#32
  | 29 => 0x3F89AF86#32
  | 30 => 0xBF34BDA4#32
  | 31 => 0xBCE048C9#32
  | 32 => 0x401D3CE6#32
  | 33 => 0x3F7BFF85#32
  | 34 => 0xBF4E577D#32
  | 35 => 0xBE82FBFA#32
  | 36 => 0x3E3B8C36#32
  | 37 => 0x3F29D6A3#32
  | 38 => 0x40847C5C#32
  | 39 => 0xBE99D698#32
  | 40 => 0x40058B56#32
  | 41 => 0x3F9DCC50#32
  | 42 => 0x3EBB3779#32
  | 43 => 0x3F44B987#32
  | 44 => 0x401576F7#32
  | 45 => 0xBE3C7020#32
  | 46 => 0x3FA2560D#32
  | 47 => 0xBF8A7136#32
  | 48 => 0xBE42D24A#32
  | 49 => 0x3F96A683#32
  | 50 => 0xBEB1AF68#32
  | 51 => 0x402F9894#32
  | 52 => 0x3FD5995A#32
  | 53 => 0x3F869DA1#32
  | 54 => 0x3FB68667#32
  | 55 => 0x3F1B92AF#32
  | 56 => 0x3D10ABED#32
  | 57 => 0xBEB10666#32
  | 58 => 0x3EFEA5DA#32
  | 59 => 0xBF590FD0#32
  | 60 => 0x3FC6716A#32
  | 61 => 0x3F8C832F#32
  | 62 => 0x3F65029E#32
  | 63 => 0xBEDE936D#32
  | 64 => 0xBEB5494C#32
  | 65 => 0x3E2999C3#32
  | 66 => 0xBF637A50#32
  | 67 => 0xBEF873A9#32
  | 68 => 0x3F3C181F#32
  | 69 => 0xBECB1ED3#32
  | 70 => 0x406F9F22#32
  | 71 => 0xBF0FDBBA#32
  | 72 => 0x3F094BDA#32
  | 73 => 0xBF59A078#32
  | 74 => 0x3FB0289C#32
  | 75 => 0x3DAEC30B#32
  | 76 => 0xBE817E6E#32
  | 77 => 0xBEED1616#32
  | 78 => 0x40598301#32
  | 79 => 0xBE880178#32
  | 80 => 0x3F150D81#32
  | 81 => 0x3F987F59#32
  | 82 => 0xBEB97F45#32
  | 83 => 0xBE38778E#32
  | 84 => 0xBFA40EF6#32
  | 85 => 0xBF8814A0#32
  | 86 => 0x4048A3DF#32
  | 87 => 0xBEA2060D#32
  | 88 => 0x3F5B040A#32
  | 89 => 0x3D377CB3#32
  | 90 => 0x3FBCCF6D#32
  | 91 => 0x3FDF9B7D#32
  | 92 => 0xBF8F26CA#32
  | 93 => 0x401CB9F7#32
  | 94 => 0xBFB5841D#32
  | 95 => 0x40911E58#32
  | 96 => 0xBDA160C7#32
  | 97 => 0x3EC3B32D#32
  | 98 => 0x3FBF09DF#32
  | 99 => 0x3F0976DE#32
  | 100 => 0x400A6ADA#32
  | 101 => 0x3FE02B54#32
  | 102 => 0x3E792525#32
  | 103 => 0x3FCFAE90#32
  | 104 => 0x3ECDE63C#32
  | 105 => 0x3F9F65E7#32
  | 106 => 0x3F9845C5#32
  | 107 => 0x40030B3A#32
  | 108 => 0x3EF835B4#32
  | 109 => 0xBEA8DA9A#32
  | 110 => 0xBF198A52#32
  | 111 => 0xBFB79C87#32
  | 112 => 0x3E9D8E02#32
  | 113 => 0xBF4A6397#32
  | 114 => 0x3F324F07#32
  | 115 => 0x40253DEA#32
  | 116 => 0xBE44F048#32
  | 117 => 0x400292B3#32
  | 118 => 0x3F5DD654#32
  | 119 => 0x3EFC7D0C#32
  | 120 => 0x3F0A9547#32
  | 121 => 0xBF0A9E19#32
  | 122 => 0xBF4A38F8#32
  | 123 => 0xBF8CEBD4#32
  | 124 => 0x404759DF#32
  | 125 => 0x3E7D7F03#32
  | 126 => 0x3FE02554#32
  | 127 => 0x3FEBCDDA#32
  | _ => 0#32

noncomputable abbrev lit0t0_867 (i : Nat) : BitVec 32 := match i % 128 with
  | 0 => 0xBEE25AB2#32
  | 1 => 0xBF4A737E#32
  | 2 => 0x3F9A29F5#32
  | 3 => 0xBE71DB5E#32
  | 4 => 0x3EF43587#32
  | 5 => 0x3FDA41EF#32
  | 6 => 0x3E8150A0#32
  | 7 => 0x3E16B5C0#32
  | 8 => 0x3F9939C2#32
  | 9 => 0x3FE7AF34#32
  | 10 => 0x3F104961#32
  | 11 => 0x3FAA0744#32
  | 12 => 0xBFF371EF#32
  | 13 => 0x40145322#32
  | 14 => 0xBD30BC71#32
  | 15 => 0x3F4B47A6#32
  | 16 => 0x40153CC9#32
  | 17 => 0x3FA3901B#32
  | 18 => 0x3F2444E8#32
  | 19 => 0x3E68893D#32
  | 20 => 0x3F0174C8#32
  | 21 => 0x3F94725B#32
  | 22 => 0x3D132D2E#32
  | 23 => 0x3F0192FD#32
  | 24 => 0xBEBF5299#32
  | 25 => 0xBFD247BE#32
  | 26 => 0x3FA376BD#32
  | 27 => 0xBFAD86F9#32
  | 28 => 0x3F9F6C00#32
  | 29 => 0x401ED999#32
  | 30 => 0x3FF1492F#32
  | 31 => 0xBE94E26A#32
  | 32 => 0x3F2804F4#32
  | 33 => 0x3EAB59AD#32
  | 34 => 0xBEBDD26D#32
  | 35 => 0x3F3EA979#32
  | 36 => 0x3FFA1D06#32
  | 37 => 0xBF0B4653#32
  | 38 => 0xBEFDCD68#32
  | 39 => 0x3FCF53B0#32
  | 40 => 0x3FA4CDE7#32
  | 41 => 0x400E5A9E#32
  | 42 => 0xBE27E55A#32
  | 43 => 0x3FEE65B5#32
  | 44 => 0x3ECC60A1#32
  | 45 => 0xBEE5758E#32
  | 46 => 0xBF0B84FA#32
  | 47 => 0x3F128F92#32
  | 48 => 0x3F4E992E#32
  | 49 => 0x3F84D36F#32
  | 50 => 0x4087022E#32
  | 51 => 0x3D63A580#32
  | 52 => 0x3FB569F8#32
  | 53 => 0xBE82EF2D#32
  | 54 => 0x3F008A90#32
  | 55 => 0x401BDBB8#32
  | 56 => 0x3F1158A9#32
  | 57 => 0x3FC59033#32
  | 58 => 0x3D9673CA#32
  | 59 => 0xBE2AD023#32
  | 60 => 0x4046B964#32
  | 61 => 0xBE4B34F0#32
  | 62 => 0xBE15B483#32
  | 63 => 0xBF9C2094#32
  | 64 => 0x3F6D8EC3#32
  | 65 => 0xBFC7CC50#32
  | 66 => 0x40071D3C#32
  | 67 => 0xBF1AB278#32
  | 68 => 0xBE31372A#32
  | 69 => 0x4030AAC7#32
  | 70 => 0xBF7F55BA#32
  | 71 => 0xBF9DB79D#32
  | 72 => 0x3F446221#32
  | 73 => 0xBF3395D0#32
  | 74 => 0x3FFCF465#32
  | 75 => 0xBEBBD4B9#32
  | 76 => 0xBEE6C527#32
  | 77 => 0x3C1E4148#32
  | 78 => 0x3F15272E#32
  | 79 => 0xBF78FE50#32
  | 80 => 0xBF9A9EE0#32
  | 81 => 0xBF79C66E#32
  | 82 => 0xBE5AD82D#32
  | 83 => 0x4015F9B3#32
  | 84 => 0xBFE0658E#32
  | 85 => 0x3FC4351E#32
  | 86 => 0x3E2DF40D#32
  | 87 => 0x3F1A576A#32
  | 88 => 0xBE7C2D90#32
  | 89 => 0x3FDF0B7A#32
  | 90 => 0x3E8FEEC5#32
  | 91 => 0x40ECC4CD#32
  | 92 => 0xBED2D26D#32
  | 93 => 0x3FF629A2#32
  | 94 => 0x3C866F59#32
  | 95 => 0x3D1521A6#32
  | 96 => 0xBF5FDE8B#32
  | 97 => 0xBF4367C9#32
  | 98 => 0xBF9BA949#32
  | 99 => 0x3FA15366#32
  | 100 => 0x4020346C#32
  | 101 => 0xBFB1F7DF#32
  | 102 => 0x3D82DD8C#32
  | 103 => 0x3E888E54#32
  | 104 => 0xBD29D5AB#32
  | 105 => 0x3F709093#32
  | 106 => 0xBF8790D8#32
  | 107 => 0xBF935AAC#32
  | 108 => 0xBE8E43DA#32
  | 109 => 0x3E6E4927#32
  | 110 => 0x3EA76637#32
  | 111 => 0x3FD31AF3#32
  | 112 => 0x3FCC0E2A#32
  | 113 => 0xBEE4549B#32
  | 114 => 0xBE17E626#32
  | 115 => 0xBE171C93#32
  | 116 => 0x3D89ADCC#32
  | 117 => 0x3FC45FA4#32
  | 118 => 0xBF95E5E8#32
  | 119 => 0xBF48D58F#32
  | 120 => 0x3FC984B4#32
  | 121 => 0x3E4E1618#32
  | 122 => 0xBECC481C#32
  | 123 => 0x3E18BC36#32
  | 124 => 0xBEF29E28#32
  | 125 => 0x3F12B97A#32
  | 126 => 0x404F4781#32
  | 127 => 0x40412FE7#32
  | _ => 0#32

noncomputable abbrev lit0t0_868 (i : Nat) : BitVec 32 := match i % 128 with
  | 0 => 0x3E07661F#32
  | 1 => 0x3FA1EF47#32
  | 2 => 0x401058DB#32
  | 3 => 0xBED2C61B#32
  | 4 => 0x3E7ACB3F#32
  | 5 => 0xBF2233F4#32
  | 6 => 0x3FB798E1#32
  | 7 => 0x3FD86717#32
  | 8 => 0x3FF82DD4#32
  | 9 => 0xBEFCCCEC#32
  | 10 => 0x40AA6377#32
  | 11 => 0x3D8A4B72#32
  | 12 => 0x3F18A24C#32
  | 13 => 0xBC256985#32
  | 14 => 0x406D04C8#32
  | 15 => 0xBF83C09C#32
  | 16 => 0x3FE3CEDE#32
  | 17 => 0xBDD6C94E#32
  | 18 => 0x3EFA9999#32
  | 19 => 0xBF254B99#32
  | 20 => 0x405392F8#32
  | 21 => 0xBF105766#32
  | 22 => 0xBEE22E0D#32
  | 23 => 0xBE73EB06#32
  | 24 => 0x3E42741D#32
  | 25 => 0x4080F833#32
  | 26 => 0x40A1E1C0#32
  | 27 => 0xBF9DA684#32
  | 28 => 0x400F63E4#32
  | 29 => 0xBE9D3DB2#32
  | 30 => 0xBEFD2C84#32
  | 31 => 0x3F11936B#32
  | 32 => 0x3EB432FA#32
  | 33 => 0xBFC03311#32
  | 34 => 0x40B53966#32
  | 35 => 0xBF132257#32
  | 36 => 0x3F6F6568#32
  | 37 => 0xBE3002D4#32
  | 38 => 0x3F5ED6EA#32
  | 39 => 0x4003D342#32
  | 40 => 0xBF244960#32
  | 41 => 0x402F3F38#32
  | 42 => 0xBF459F53#32
  | 43 => 0x3F870EB8#32
  | 44 => 0x402AF26C#32
  | 45 => 0x3FE48C8E#32
  | 46 => 0xBEC0A150#32
  | 47 => 0xBF27FB24#32
  | 48 => 0x3EDD1243#32
  | 49 => 0x3EDAEABF#32
  | 50 => 0xBED703F0#32
  | 51 => 0xBEA499BB#32
  | 52 => 0x3F7D5EB8#32
  | 53 => 0xBE6ED812#32
  | 54 => 0x3E62D5B3#32
  | 55 => 0xBEC44E2F#32
  | 56 => 0x401C3890#32
  | 57 => 0x4012B4CC#32
  | 58 => 0x3D43E22F#32
  | 59 => 0xBF541A82#32
  | 60 => 0xBE191F15#32
  | 61 => 0x4016EE4C#32
  | 62 => 0xBF0D0943#32
  | 63 => 0xBF5942E0#32
  | 64 => 0x3F364A47#32
  | 65 => 0x3F7CF4BA#32
  | 66 => 0xBF045A86#32
  | 67 => 0xBEAD5254#32
  | 68 => 0x3EADA4D1#32
  | 69 => 0xBF2EA818#32
  | 70 => 0x3EF00AC4#32
  | 71 => 0x3E8F2EE0#32
  | 72 => 0x3E998A8E#32
  | 73 => 0xBE187DD8#32
  | 74 => 0x40876739#32
  | 75 => 0x3E15F647#32
  | 76 => 0xBF883080#32
  | 77 => 0x3FD3C5BC#32
  | 78 => 0xBF641E69#32
  | 79 => 0x3E95BDBA#32
  | 80 => 0x40170C6C#32
  | 81 => 0x3F188332#32
  | 82 => 0x3DD6B66C#32
  | 83 => 0x3FECBF9A#32
  | 84 => 0x3EFC4580#32
  | 85 => 0x3EA83AA8#32
  | 86 => 0x3E82449C#32
  | 87 => 0x408F207E#32
  | 88 => 0xBF1A6CCE#32
  | 89 => 0xBF75746F#32
  | 90 => 0x3F76BD58#32
  | 91 => 0x3F1CB3EC#32
  | 92 => 0x3FF9A6A3#32
  | 93 => 0x3EB50AA9#32
  | 94 => 0x4043063E#32
  | 95 => 0x3F89D4EC#32
  | 96 => 0x3F68EBB7#32
  | 97 => 0xBF0E3106#32
  | 98 => 0x3F1D4AAB#32
  | 99 => 0xBECDD6A6#32
  | 100 => 0x40452B17#32
  | 101 => 0x3EEE6336#32
  | 102 => 0xBF7CF5DE#32
  | 103 => 0x402C4742#32
  | 104 => 0x3F0E014E#32
  | 105 => 0x3E8B07DA#32
  | 106 => 0xBE82C355#32
  | 107 => 0xBE7499FD#32
  | 108 => 0x3EC9BF38#32
  | 109 => 0x3BB7ECE5#32
  | 110 => 0x40348482#32
  | 111 => 0xBE06F1CF#32
  | 112 => 0x3EAE09AA#32
  | 113 => 0xBED72C86#32
  | 114 => 0x3E5F733F#32
  | 115 => 0x3FE94BAA#32
  | 116 => 0x3EFC5D3F#32
  | 117 => 0xBEFA2CE7#32
  | 118 => 0xBF621F26#32
  | 119 => 0xBE6B161B#32
  | 120 => 0x40589608#32
  | 121 => 0xBCD402D4#32
  | 122 => 0xBF6549F4#32
  | 123 => 0x3F80E384#32
  | 124 => 0xBFAF8FD4#32
  | 125 => 0xBEE6DAAD#32
  | 126 => 0x3C94300F#32
  | 127 => 0x3F108175#32
  | _ => 0#32

noncomputable abbrev lit0t0_869 (i : Nat) : BitVec 32 := match i % 128 with
  | 0 => 0x3EA85BA6#32
  | 1 => 0x3FE9EED5#32
  | 2 => 0xBE99E81A#32
  | 3 => 0xBFB3C740#32
  | 4 => 0xBE96BD4B#32
  | 5 => 0x3E634269#32
  | 6 => 0x3F0FAB51#32
  | 7 => 0xBE2A5FA7#32
  | 8 => 0xBE8FF41A#32
  | 9 => 0xBEB2EBD6#32
  | 10 => 0x3F09C985#32
  | 11 => 0xBF567D5A#32
  | 12 => 0xBF7F49B6#32
  | 13 => 0x3FF39CF4#32
  | 14 => 0x3EA8C5DD#32
  | 15 => 0x3F42D79E#32
  | 16 => 0x3E1C45FD#32
  | 17 => 0xBF321CF9#32
  | 18 => 0x3FBA2959#32
  | 19 => 0xBF1D1866#32
  | 20 => 0x3F3C3FE9#32
  | 21 => 0x3F5AB27A#32
  | 22 => 0x3F8B7A06#32
  | 23 => 0x4007E0EC#32
  | 24 => 0x3F3483EF#32
  | 25 => 0x3FA823C8#32
  | 26 => 0x3FE20065#32
  | 27 => 0x3EC27E2A#32
  | 28 => 0xBE54E4E8#32
  | 29 => 0x3FE13053#32
  | 30 => 0x4048BF0B#32
  | 31 => 0x3FE43296#32
  | 32 => 0xBF17DA27#32
  | 33 => 0x401FC46C#32
  | 34 => 0x3F8610D0#32
  | 35 => 0x3F601C18#32
  | 36 => 0x3FA7E564#32
  | 37 => 0x3F0DA0E3#32
  | 38 => 0x3F1B03E9#32
  | 39 => 0x3FA40798#32
  | 40 => 0x3FE43605#32
  | 41 => 0x3E8C7BFA#32
  | 42 => 0x3F1E11A6#32
  | 43 => 0x401D5C50#32
  | 44 => 0x400444C2#32
  | 45 => 0x3E842174#32
  | 46 => 0xBE27117F#32
  | 47 => 0x3F95A84F#32
  | 48 => 0xBF77D387#32
  | 49 => 0xBF3A1136#32
  | 50 => 0x3F93D071#32
  | 51 => 0x3EAEED4D#32
  | 52 => 0xBF9A4E66#32
  | 53 => 0x3FAE5E7F#32
  | 54 => 0x3FCF4F86#32
  | 55 => 0x3E679BA8#32
  | 56 => 0xBEA6B62F#32
  | 57 => 0x3F6AA206#32
  | 58 => 0x40296009#32
  | 59 => 0x40261B0E#32
  | 60 => 0xBE3719DD#32
  | 61 => 0xBD4CD390#32
  | 62 => 0x3E984A90#32
  | 63 => 0xBF88B2DF#32
  | 64 => 0x3FF163FF#32
  | 65 => 0x3EE0C0EE#32
  | 66 => 0xBE7B1778#32
  | 67 => 0xBE397DCA#32
  | 68 => 0x3FFC9AE2#32
  | 69 => 0x3FCDC0DC#32
  | 70 => 0x3F3510B7#32
  | 71 => 0x3FCE1210#32
  | 72 => 0x3E9279F9#32
  | 73 => 0xBEB2CC4E#32
  | 74 => 0xBEF42640#32
  | 75 => 0x3F0B684C#32
  | 76 => 0x3F69D0AA#32
  | 77 => 0x3F1E3526#32
  | 78 => 0xBF49EE3E#32
  | 79 => 0x3F34CEAC#32
  | 80 => 0x3FDB1688#32
  | 81 => 0xBE48F9FA#32
  | 82 => 0xBFB0C1B1#32
  | 83 => 0x3E6DDD3C#32
  | 84 => 0x3F91FFDF#32
  | 85 => 0xBF2ECD83#32
  | 86 => 0xBEE9A628#32
  | 87 => 0x3FB2ECFD#32
  | 88 => 0x40A213DE#32
  | 89 => 0x3F1B8450#32
  | 90 => 0x3E5A3641#32
  | 91 => 0x3FF58E58#32
  | 92 => 0x3FA1BFA3#32
  | 93 => 0x4039EDE8#32
  | 94 => 0xBF31DBE6#32
  | 95 => 0x3F458C8C#32
  | 96 => 0x3F04C753#32
  | 97 => 0x3F95470A#32
  | 98 => 0xBF36DCBC#32
  | 99 => 0x3F585ED7#32
  | 100 => 0x3F964FA3#32
  | 101 => 0xBE16468A#32
  | 102 => 0x3FEB03BA#32
  | 103 => 0x3EC6472D#32
  | 104 => 0x3F410B5E#32
  | 105 => 0x404B1494#32
  | 106 => 0x3F8B013B#32
  | 107 => 0x3F39C068#32
  | 108 => 0x403F383D#32
  | 109 => 0x3FB58C33#32
  | 110 => 0xBF80266D#32
  | 111 => 0xBE742FCC#32
  | 112 => 0xBEC5B043#32
  | 113 => 0x3EC03BE7#32
  | 114 => 0x3FB08C44#32
  | 115 => 0xBF6874ED#32
  | 116 => 0x3E99D8A4#32
  | 117 => 0x3FCC6410#32
  | 118 => 0x3F41A1CE#32
  | 119 => 0x3F891457#32
  | 120 => 0xBF2741DA#32
  | 121 => 0xBE4100A5#32
  | 122 => 0xBF186FD7#32
  | 123 => 0xBF3B63B6#32
  | 124 => 0x400A0EBC#32
  | 125 => 0x4005A667#32
  | 126 => 0x3F9CB5AA#32
  | 127 => 0x3E068B2E#32
  | _ => 0#32

noncomputable abbrev lit0t0_870 (i : Nat) : BitVec 32 := match i % 128 with
  | 0 => 0xBF969D6C#32
  | 1 => 0xBEA10730#32
  | 2 => 0xBFC5DD64#32
  | 3 => 0xBE7AC475#32
  | 4 => 0xBEB29EB9#32
  | 5 => 0xBAA6DCCC#32
  | 6 => 0x400546BD#32
  | 7 => 0xBEA13CA3#32
  | 8 => 0x3F26501C#32
  | 9 => 0x3FB3E6D0#32
  | 10 => 0x4085B14E#32
  | 11 => 0x3EE09893#32
  | 12 => 0x3F11ACF6#32
  | 13 => 0x3DB4460A#32
  | 14 => 0xBF903DE0#32
  | 15 => 0x3F5902F6#32
  | 16 => 0x3FB83C43#32
  | 17 => 0xBF4DCE79#32
  | 18 => 0x40364EA1#32
  | 19 => 0xBD329036#32
  | 20 => 0x3EEB43E8#32
  | 21 => 0xBF773412#32
  | 22 => 0xBECD1167#32
  | 23 => 0x3E81AE8B#32
  | 24 => 0xBCB7F504#32
  | 25 => 0x3C9D9793#32
  | 26 => 0x402650B9#32
  | 27 => 0xBB170F66#32
  | 28 => 0xBF848CEF#32
  | 29 => 0xBE8361E3#32
  | 30 => 0x3FA9B431#32
  | 31 => 0x3FC05AF9#32
  | 32 => 0xBF664D2B#32
  | 33 => 0x3EEDAE63#32
  | 34 => 0x3F21A3A4#32
  | 35 => 0x3F7821F7#32
  | 36 => 0x40784205#32
  | 37 => 0xBEE901E4#32
  | 38 => 0x3FA247E4#32
  | 39 => 0xBF81E47A#32
  | 40 => 0x3FEAF057#32
  | 41 => 0xBF337D56#32
  | 42 => 0xBF308B68#32
  | 43 => 0xBF1F482D#32
  | 44 => 0x3D2B9DEB#32
  | 45 => 0x3F520741#32
  | 46 => 0x3F877642#32
  | 47 => 0x3CC09F39#32
  | 48 => 0x3F250E3F#32
  | 49 => 0x3EB2F227#32
  | 50 => 0x3ED71B86#32
  | 51 => 0x3FB9B25C#32
  | 52 => 0xBF41DE79#32
  | 53 => 0x3EEE7596#32
  | 54 => 0x3F10EEA5#32
  | 55 => 0x3F19BC36#32
  | 56 => 0x3F916CBC#32
  | 57 => 0x3F2278C6#32
  | 58 => 0x3FFC38B1#32
  | 59 => 0x401A877E#32
  | 60 => 0xBE48B7FE#32
  | 61 => 0xBF209110#32
  | 62 => 0xBECCB66C#32
  | 63 => 0x4009D9A7#32
  | 64 => 0x3FD9EB30#32
  | 65 => 0xBF33AC2B#32
  | 66 => 0xBE2F37B4#32
  | 67 => 0x3E1F166A#32
  | 68 => 0xBEE4FE6F#32
  | 69 => 0x3F644B53#32
  | 70 => 0x3F4051D3#32
  | 71 => 0x408AD79E#32
  | 72 => 0xBF1EAD15#32
  | 73 => 0xBD6DE9AC#32
  | 74 => 0x3EE72694#32
  | 75 => 0x3F958AF2#32
  | 76 => 0xBF8B45AF#32
  | 77 => 0xBE892B78#32
  | 78 => 0x3F17EF27#32
  | 79 => 0xBF606EBF#32
  | 80 => 0x3FCD6DA2#32
  | 81 => 0xBEBF3141#32
  | 82 => 0x3FAEB2E1#32
  | 83 => 0x3D4F4091#32
  | 84 => 0xBFBFFFEF#32
  | 85 => 0xBD45AC2B#32
  | 86 => 0x3FFD3EEE#32
  | 87 => 0x3F46E5A1#32
  | 88 => 0xBF89CD23#32
  | 89 => 0x3F1A99EF#32
  | 90 => 0x3FCF0F8D#32
  | 91 => 0x3FA8CDC6#32
  | 92 => 0x3F4DF022#32
  | 93 => 0xBDDD7EFF#32
  | 94 => 0xBD864A92#32
  | 95 => 0x3FD3724A#32
  | 96 => 0xBE7A9416#32
  | 97 => 0x3F62CA84#32
  | 98 => 0x400708DB#32
  | 99 => 0xBF26835D#32
  | 100 => 0x3F6B1BFE#32
  | 101 => 0x3F89B2B2#32
  | 102 => 0x3F74CFA2#32
  | 103 => 0x3E0BC36B#32
  | 104 => 0x4040CE3C#32
  | 105 => 0x3FB145F8#32
  | 106 => 0x3FC12C71#32
  | 107 => 0x3F89B66B#32
  | 108 => 0x3F154F30#32
  | 109 => 0x4068BAD5#32
  | 110 => 0x3FB949E4#32
  | 111 => 0xBA31A896#32
  | 112 => 0x3DB64C26#32
  | 113 => 0xBEAFBCD9#32
  | 114 => 0x3FDE8C85#32
  | 115 => 0x3D5EA7FC#32
  | 116 => 0x3F58AE54#32
  | 117 => 0x3FF81ED8#32
  | 118 => 0xBFA00374#32
  | 119 => 0xBF408383#32
  | 120 => 0x40A9C5FF#32
  | 121 => 0xBE0B1FBB#32
  | 122 => 0xBF03DE5F#32
  | 123 => 0x3F0B7774#32
  | 124 => 0x3D9E6BB6#32
  | 125 => 0x3E84DB0B#32
  | 126 => 0x3EF03F01#32
  | 127 => 0xBE12A6AE#32
  | _ => 0#32

noncomputable abbrev lit0t0_871 (i : Nat) : BitVec 32 := match i % 128 with
  | 0 => 0x3F256F31#32
  | 1 => 0x3DABE7D4#32
  | 2 => 0xBE83E4C1#32
  | 3 => 0x3F9A6C69#32
  | 4 => 0xBFA60149#32
  | 5 => 0x3F50C41C#32
  | 6 => 0x3F821829#32
  | 7 => 0xBEC5D10D#32
  | 8 => 0x3F9A2F1C#32
  | 9 => 0x3F855F7F#32
  | 10 => 0x40009DF4#32
  | 11 => 0x3F9272C4#32
  | 12 => 0xBF06A8E0#32
  | 13 => 0x3F0AC516#32
  | 14 => 0x3FF07C05#32
  | 15 => 0xBF9E303A#32
  | 16 => 0x4062894F#32
  | 17 => 0x3F389856#32
  | 18 => 0xBDEBF774#32
  | 19 => 0xBEFDDDAC#32
  | 20 => 0xBEB549D8#32
  | 21 => 0x3FF27298#32
  | 22 => 0x3FA518C4#32
  | 23 => 0xBF2ECA98#32
  | 24 => 0x3F9D23AD#32
  | 25 => 0xBF4C51D4#32
  | 26 => 0x3EFF573A#32
  | 27 => 0x3F21D054#32
  | 28 => 0x40B94D23#32
  | 29 => 0x3F94D231#32
  | 30 => 0xBD3D1148#32
  | 31 => 0xBE2EFE14#32
  | 32 => 0x3E4B4C95#32
  | 33 => 0xBF1CBBF8#32
  | 34 => 0xBE73C32D#32
  | 35 => 0x3ECDB06C#32
  | 36 => 0x402E6156#32
  | 37 => 0x3F3FF650#32
  | 38 => 0x3ED93B31#32
  | 39 => 0x3F8164EF#32
  | 40 => 0x3F5D09B0#32
  | 41 => 0x3F245042#32
  | 42 => 0xBDB85BCB#32
  | 43 => 0x3EB30633#32
  | 44 => 0x3EF2F464#32
  | 45 => 0x3EFC359E#32
  | 46 => 0x3EC1218B#32
  | 47 => 0xBF582382#32
  | 48 => 0xBB38618A#32
  | 49 => 0xBE785FFE#32
  | 50 => 0x3FDB1F37#32
  | 51 => 0xBF33283A#32
  | 52 => 0x3EB51AC8#32
  | 53 => 0x3F92C3E2#32
  | 54 => 0x402788A8#32
  | 55 => 0xBF1B7C3D#32
  | 56 => 0xBDF858D5#32
  | 57 => 0x3E946DF8#32
  | 58 => 0x3FC8A41A#32
  | 59 => 0x3F48F64A#32
  | 60 => 0x3FB3BC65#32
  | 61 => 0xBF4F80CE#32
  | 62 => 0x409E6BF4#32
  | 63 => 0x4036CFDE#32
  | 64 => 0x3F9301F0#32
  | 65 => 0x3F79BCEE#32
  | 66 => 0xBE5A4A02#32
  | 67 => 0x3F4A67AC#32
  | 68 => 0x3FF8CF74#32
  | 69 => 0x402D48DB#32
  | 70 => 0x3F11EC53#32
  | 71 => 0xBDC4B135#32
  | 72 => 0x4040B8C2#32
  | 73 => 0x3FC94152#32
  | 74 => 0x3E2263B6#32
  | 75 => 0xBF8275FE#32
  | 76 => 0x3FAB27AA#32
  | 77 => 0x40828405#32
  | 78 => 0xBF0D1E87#32
  | 79 => 0x3F044691#32
  | 80 => 0xBC6E387E#32
  | 81 => 0x3F8943AB#32
  | 82 => 0x3FC80403#32
  | 83 => 0x3D2F24D7#32
  | 84 => 0x3F21883D#32
  | 85 => 0x4081E239#32
  | 86 => 0xBE9AD9A8#32
  | 87 => 0x3FAB0892#32
  | 88 => 0x3E628CE1#32
  | 89 => 0x3E02D674#32
  | 90 => 0x3DB18C9B#32
  | 91 => 0x3FE5FC26#32
  | 92 => 0x3EC20C19#32
  | 93 => 0x3F3391DC#32
  | 94 => 0xBF0F34D6#32
  | 95 => 0xBF646E46#32
  | 96 => 0x3F432586#32
  | 97 => 0xBFE8E432#32
  | 98 => 0x3F28AF55#32
  | 99 => 0xBF1A47B8#32
  | 100 => 0x3D37FD46#32
  | 101 => 0x3F8C242A#32
  | 102 => 0xBDCA514C#32
  | 103 => 0x3E774810#32
  | 104 => 0x3F84DBC3#32
  | 105 => 0x3F64E524#32
  | 106 => 0x3F29EA56#32
  | 107 => 0x3FF1C080#32
  | 108 => 0xBF829300#32
  | 109 => 0x3FB46F13#32
  | 110 => 0xBF9C5783#32
  | 111 => 0x3FA35B12#32
  | 112 => 0x3E391096#32
  | 113 => 0x3FF17E0C#32
  | 114 => 0x3FEC3268#32
  | 115 => 0x3D917BF4#32
  | 116 => 0x401CAB74#32
  | 117 => 0x3E979827#32
  | 118 => 0xBF3A6942#32
  | 119 => 0x3FF519E8#32
  | 120 => 0xBD437E57#32
  | 121 => 0xBF43EBD0#32
  | 122 => 0x3F9878BB#32
  | 123 => 0x3F8623CA#32
  | 124 => 0xBEBBA664#32
  | 125 => 0x3D9C94F4#32
  | 126 => 0xBF147717#32
  | 127 => 0x4042F207#32
  | _ => 0#32

noncomputable abbrev lit0t0_872 (i : Nat) : BitVec 32 := match i % 128 with
  | 0 => 0x3E593655#32
  | 1 => 0xBF433970#32
  | 2 => 0x3EC4F311#32
  | 3 => 0x40306B18#32
  | 4 => 0xBDD0A02F#32
  | 5 => 0xBEA36C93#32
  | 6 => 0xBF52490C#32
  | 7 => 0x400D351B#32
  | 8 => 0x3F8685BD#32
  | 9 => 0xBD1FD984#32
  | 10 => 0x408B894B#32
  | 11 => 0x3E66F1F5#32
  | 12 => 0xBDC27BDC#32
  | 13 => 0xBD915E5F#32
  | 14 => 0xBDC5117E#32
  | 15 => 0xBF201417#32
  | 16 => 0x3FD4DDF7#32
  | 17 => 0xBF4BABCC#32
  | 18 => 0xBF4AEED4#32
  | 19 => 0x3F2EA3F5#32
  | 20 => 0x3E183423#32
  | 21 => 0xBF42BABF#32
  | 22 => 0xBF3A79D6#32
  | 23 => 0x3FD6888F#32
  | 24 => 0x3F11648B#32
  | 25 => 0x4012AADB#32
  | 26 => 0x3D21809D#32
  | 27 => 0x3F81D8B9#32
  | 28 => 0xBECBAAD2#32
  | 29 => 0xBF17A5FA#32
  | 30 => 0x40154066#32
  | 31 => 0x3FFEA181#32
  | 32 => 0x3E659567#32
  | 33 => 0x3CBF2B5D#32
  | 34 => 0x3F11D532#32
  | 35 => 0xBDFD6ABF#32
  | 36 => 0x3A98F6D8#32
  | 37 => 0x3F29283D#32
  | 38 => 0x403EBD43#32
  | 39 => 0xBF0CBCE0#32
  | 40 => 0x3EDA8374#32
  | 41 => 0xBF8B6D5A#32
  | 42 => 0xBFC20144#32
  | 43 => 0x3FBBC2B8#32
  | 44 => 0x3ECAD849#32
  | 45 => 0x40198D58#32
  | 46 => 0xBF2DC735#32
  | 47 => 0xBF8C9FEF#32
  | 48 => 0xBF172065#32
  | 49 => 0xBEA6788C#32
  | 50 => 0xBF07C758#32
  | 51 => 0xBE5E14D5#32
  | 52 => 0xBD40D548#32
  | 53 => 0x4024ECD3#32
  | 54 => 0x3E691806#32
  | 55 => 0x3FEFDC2D#32
  | 56 => 0x3F9EA020#32
  | 57 => 0x3FF4507A#32
  | 58 => 0xBE9C6F1D#32
  | 59 => 0x406D0E60#32
  | 60 => 0x3FE28C33#32
  | 61 => 0x3DDB8A71#32
  | 62 => 0x3C3ACDD7#32
  | 63 => 0x3F763156#32
  | 64 => 0x3F2C499B#32
  | 65 => 0x3D9C5823#32
  | 66 => 0x3FA085E3#32
  | 67 => 0x3E99D642#32
  | 68 => 0x3F135F55#32
  | 69 => 0x3E89D6EB#32
  | 70 => 0x3F147343#32
  | 71 => 0x3F2AFDA6#32
  | 72 => 0x3F80D807#32
  | 73 => 0xBF1C5B35#32
  | 74 => 0x3F1AA38A#32
  | 75 => 0x3E2C3D5B#32
  | 76 => 0xBF6D2F22#32
  | 77 => 0x3E48D3E9#32
  | 78 => 0x3CE05A99#32
  | 79 => 0x3F974341#32
  | 80 => 0xBD16C2AF#32
  | 81 => 0x3FC2A6D2#32
  | 82 => 0x3F10F756#32
  | 83 => 0x3DB4BCBE#32
  | 84 => 0x3F56D643#32
  | 85 => 0x3F868AD8#32
  | 86 => 0x3DD8FDB5#32
  | 87 => 0xBF966B5C#32
  | 88 => 0x3FE80FE4#32
  | 89 => 0xBE913BC2#32
  | 90 => 0x3FC7B184#32
  | 91 => 0xBF9C8F52#32
  | 92 => 0x3E23F79D#32
  | 93 => 0xBF2A6CC8#32
  | 94 => 0x3EE06DA2#32
  | 95 => 0x4031FEBE#32
  | 96 => 0x3E5583A1#32
  | 97 => 0x3F43CD04#32
  | 98 => 0x3FA96810#32
  | 99 => 0x400C8B4C#32
  | 100 => 0x3FC77191#32
  | 101 => 0xBDEFA2E8#32
  | 102 => 0x3F1AD65B#32
  | 103 => 0x3EF782FC#32
  | 104 => 0x3F5D886F#32
  | 105 => 0x3E1D598E#32
  | 106 => 0xBDEC4187#32
  | 107 => 0xBF1EE5B3#32
  | 108 => 0xBFA2D84C#32
  | 109 => 0xBDD8BDA7#32
  | 110 => 0x3F1F676C#32
  | 111 => 0x3E8697A3#32
  | 112 => 0xBF7D085A#32
  | 113 => 0xBF0D7F84#32
  | 114 => 0xBF536C34#32
  | 115 => 0x3DD8EC71#32
  | 116 => 0x3F46208B#32
  | 117 => 0x3F5BB21F#32
  | 118 => 0x3ED0B831#32
  | 119 => 0xBF2C881D#32
  | 120 => 0x3FB413D2#32
  | 121 => 0x3F8C7C24#32
  | 122 => 0xBF9E434F#32
  | 123 => 0x40381AB8#32
  | 124 => 0x403330E5#32
  | 125 => 0x3F0EA68C#32
  | 126 => 0x3F7AF9A4#32
  | 127 => 0x3D4C88D5#32
  | _ => 0#32

noncomputable abbrev lit0t0_873 (i : Nat) : BitVec 32 := match i % 128 with
  | 0 => 0xC011FDB0#32
  | 1 => 0xBD745890#32
  | 2 => 0xBF65A500#32
  | 3 => 0x3F5E23DC#32
  | 4 => 0x3F80BE5E#32
  | 5 => 0x3F7BCFA0#32
  | 6 => 0x3E88ED84#32
  | 7 => 0x3FEDD688#32
  | 8 => 0xBF3606E9#32
  | 9 => 0x404E03BE#32
  | 10 => 0x3E05A1B6#32
  | 11 => 0x3E06B645#32
  | 12 => 0x40927CB1#32
  | 13 => 0xBEB00E5E#32
  | 14 => 0xBFC11AA2#32
  | 15 => 0x3FB9AE67#32
  | 16 => 0x3E6D0862#32
  | 17 => 0x3F6C09B2#32
  | 18 => 0x3F40ECC7#32
  | 19 => 0x3F1E1B7C#32
  | 20 => 0xBD2CAB12#32
  | 21 => 0x3FBD15D8#32
  | 22 => 0xBF973456#32
  | 23 => 0xBC446B61#32
  | 24 => 0x3FD60A98#32
  | 25 => 0x3FC3A974#32
  | 26 => 0x3FA97BB7#32
  | 27 => 0x3EAE3735#32
  | 28 => 0x3C903690#32
  | 29 => 0xBE7AEC09#32
  | 30 => 0x3F97AD21#32
  | 31 => 0x402B0022#32
  | 32 => 0xBEFC06D0#32
  | 33 => 0x3FA2F1AC#32
  | 34 => 0x3F487D1B#32
  | 35 => 0xBFA50535#32
  | 36 => 0x3F071FD6#32
  | 37 => 0x3FE714F8#32
  | 38 => 0xBF37CDFD#32
  | 39 => 0x3F22DFC7#32
  | 40 => 0xBE357068#32
  | 41 => 0x3A86118C#32
  | 42 => 0xBEAF5757#32
  | 43 => 0xBC38F0C8#32
  | 44 => 0x3F239B06#32
  | 45 => 0x4084C236#32
  | 46 => 0x3E8B4E46#32
  | 47 => 0xBF7CCFDB#32
  | 48 => 0x3F914EF0#32
  | 49 => 0x3F434860#32
  | 50 => 0xBDF2488D#32
  | 51 => 0x3FC60D1B#32
  | 52 => 0x3E9F6388#32
  | 53 => 0x3FDEF741#32
  | 54 => 0x4020BD3C#32
  | 55 => 0xBF969A66#32
  | 56 => 0x3F6235B3#32
  | 57 => 0x3EEBD2A1#32
  | 58 => 0xBF8BCD07#32
  | 59 => 0x3F0B0C68#32
  | 60 => 0x3F8BCB69#32
  | 61 => 0x402B287A#32
  | 62 => 0x3F1C574C#32
  | 63 => 0xBF9934DA#32
  | 64 => 0x401683CA#32
  | 65 => 0x3FFECAEA#32
  | 66 => 0x3FD1CA16#32
  | 67 => 0x400662B7#32
  | 68 => 0x3FDF8EB6#32
  | 69 => 0x3D2DAF64#32
  | 70 => 0x4005880E#32
  | 71 => 0xBF085F5A#32
  | 72 => 0xBE82387F#32
  | 73 => 0xBDA2E271#32
  | 74 => 0x3E1FD047#32
  | 75 => 0x40139260#32
  | 76 => 0x3FB54DA9#32
  | 77 => 0x3F7C87E4#32
  | 78 => 0xBF653351#32
  | 79 => 0x3F97D570#32
  | 80 => 0x3EC6E671#32
  | 81 => 0xBF6EFA1F#32
  | 82 => 0x3F364EBB#32
  | 83 => 0x3FCE7D05#32
  | 84 => 0x3FB20D10#32
  | 85 => 0xBD4CB6E7#32
  | 86 => 0x3E969407#32
  | 87 => 0x3E723199#32
  | 88 => 0x3DD188D7#32
  | 89 => 0x3F98F4ED#32
  | 90 => 0x3F8A5C9A#32
  | 91 => 0x40866F1A#32
  | 92 => 0xBED666DA#32
  | 93 => 0xBE848A3E#32
  | 94 => 0x3FC09FA1#32
  | 95 => 0xBF1CCAEB#32
  | 96 => 0x40107F8D#32
  | 97 => 0xBD4411FD#32
  | 98 => 0x3F7DE123#32
  | 99 => 0x3F2C98B3#32
  | 100 => 0xBE414CCF#32
  | 101 => 0x3BB3FCD0#32
  | 102 => 0x3F5786DA#32
  | 103 => 0xBF2A3594#32
  | 104 => 0xBE9B4A31#32
  | 105 => 0x3F6DC0AE#32
  | 106 => 0xBF80F547#32
  | 107 => 0x3EB6676D#32
  | 108 => 0xBDDE4540#32
  | 109 => 0x3FCE873D#32
  | 110 => 0xBF76F8DC#32
  | 111 => 0x4004D1F1#32
  | 112 => 0xBF3DC40E#32
  | 113 => 0xBD1655C3#32
  | 114 => 0xBF8B987D#32
  | 115 => 0x3F59996B#32
  | 116 => 0xBFB9E1A7#32
  | 117 => 0xBEE7F65A#32
  | 118 => 0x3DF709D7#32
  | 119 => 0x3E8B7751#32
  | 120 => 0x3FA64402#32
  | 121 => 0x3F7BC783#32
  | 122 => 0x40558A98#32
  | 123 => 0xBD051F29#32
  | 124 => 0xBF9CD949#32
  | 125 => 0xBF668DBB#32
  | 126 => 0x4024B602#32
  | 127 => 0xBEE4A919#32
  | _ => 0#32

noncomputable abbrev lit0t0_874 (i : Nat) : BitVec 32 := match i % 128 with
  | 0 => 0x3FEF8D9C#32
  | 1 => 0x3F77ECA0#32
  | 2 => 0xBEE2B5C4#32
  | 3 => 0xBDE95163#32
  | 4 => 0x3D07143B#32
  | 5 => 0xBCB5B4C6#32
  | 6 => 0xBF1C22D3#32
  | 7 => 0x3E828662#32
  | 8 => 0x3E017FDF#32
  | 9 => 0x40834EFD#32
  | 10 => 0xBF9609AB#32
  | 11 => 0x3E9A7091#32
  | 12 => 0xBF00B7AC#32
  | 13 => 0x3F8C9AEC#32
  | 14 => 0xBF1AF39E#32
  | 15 => 0x3FD72F6A#32
  | 16 => 0x3E94134D#32
  | 17 => 0x3EB571F7#32
  | 18 => 0x401F9F5D#32
  | 19 => 0xBF1A4E19#32
  | 20 => 0xBF215397#32
  | 21 => 0xBE58A793#32
  | 22 => 0x3E55D5A2#32
  | 23 => 0xBF0C9E11#32
  | 24 => 0x3E86AA0D#32
  | 25 => 0xBF4B1BA1#32
  | 26 => 0x3EE77CDE#32
  | 27 => 0x3F45C5CC#32
  | 28 => 0xBE0B0301#32
  | 29 => 0x3DBE2559#32
  | 30 => 0x3FB6B019#32
  | 31 => 0x40C3A9A3#32
  | 32 => 0xBF13970F#32
  | 33 => 0xBC664CB2#32
  | 34 => 0x408B3675#32
  | 35 => 0xBF1AB4F8#32
  | 36 => 0xBEE08E15#32
  | 37 => 0xBF6A05D0#32
  | 38 => 0x3FA579C5#32
  | 39 => 0x3DE4F08B#32
  | 40 => 0xBEA5FABA#32
  | 41 => 0x3E803A99#32
  | 42 => 0x3EA95E6A#32
  | 43 => 0x3EC618FA#32
  | 44 => 0x3E7EB932#32
  | 45 => 0x3F33DD93#32
  | 46 => 0x4025F58E#32
  | 47 => 0x40154E58#32
  | 48 => 0x3FA55063#32
  | 49 => 0x3F81D657#32
  | 50 => 0x3E75E499#32
  | 51 => 0xBF78A8CE#32
  | 52 => 0x3F492ECA#32
  | 53 => 0x3EC60AF8#32
  | 54 => 0x3F47E0CC#32
  | 55 => 0xBE5505C7#32
  | 56 => 0x3FA89BB1#32
  | 57 => 0xBF0B8AD9#32
  | 58 => 0xBEA0C15C#32
  | 59 => 0x3F5111B4#32
  | 60 => 0x3F8B0DC1#32
  | 61 => 0xBF93DD38#32
  | 62 => 0xBDAB2224#32
  | 63 => 0x3F1FB45F#32
  | 64 => 0xBEC6ECA4#32
  | 65 => 0x3CEF68A9#32
  | 66 => 0xBD9F1581#32
  | 67 => 0x3EFB81BF#32
  | 68 => 0xBF0BCCFA#32
  | 69 => 0xBD0846E7#32
  | 70 => 0xBF29BAC6#32
  | 71 => 0xBE431275#32
  | 72 => 0x3ED2A2F5#32
  | 73 => 0xBF1E8559#32
  | 74 => 0x3F6D6EA2#32
  | 75 => 0xBF911F52#32
  | 76 => 0x3E1DB248#32
  | 77 => 0xBD7E63C9#32
  | 78 => 0x402AD9CF#32
  | 79 => 0xBEB581EB#32
  | 80 => 0x3F3D07D5#32
  | 81 => 0xBF526210#32
  | 82 => 0x3EA69180#32
  | 83 => 0x3E3744B3#32
  | 84 => 0x409C4D8E#32
  | 85 => 0x3FC4DFD4#32
  | 86 => 0xBF1B1F2D#32
  | 87 => 0xBFB4BCF2#32
  | 88 => 0x3E444B3A#32
  | 89 => 0xBEC93983#32
  | 90 => 0x3DB1882C#32
  | 91 => 0xBF52A4E7#32
  | 92 => 0x401891FE#32
  | 93 => 0xBEDAB67E#32
  | 94 => 0x3F1A38A6#32
  | 95 => 0x3FBAEECE#32
  | 96 => 0xBE88EEDD#32
  | 97 => 0x3FE98FDB#32
  | 98 => 0x4048B37E#32
  | 99 => 0x3FA73EEB#32
  | 100 => 0x3F5ABDA1#32
  | 101 => 0xBEC44EEB#32
  | 102 => 0x3C3B7378#32
  | 103 => 0x40122266#32
  | 104 => 0xBF1B42DF#32
  | 105 => 0x3BC03588#32
  | 106 => 0x3F307FFB#32
  | 107 => 0xBF42A4DA#32
  | 108 => 0x40347561#32
  | 109 => 0x4062C918#32
  | 110 => 0x40405FD7#32
  | 111 => 0x4011D6A6#32
  | 112 => 0xBDA8743F#32
  | 113 => 0x3F85ADFC#32
  | 114 => 0x3C05B1C3#32
  | 115 => 0x403343BF#32
  | 116 => 0xBF8B9705#32
  | 117 => 0x3FC2852A#32
  | 118 => 0xBF9B36C5#32
  | 119 => 0x3FF1C5F6#32
  | 120 => 0xBEFCA9BC#32
  | 121 => 0x3E75055D#32
  | 122 => 0x3F0570A3#32
  | 123 => 0xBEBA6E0B#32
  | 124 => 0x3FC29A0F#32
  | 125 => 0xBE817B9E#32
  | 126 => 0x3F4361B2#32
  | 127 => 0xBEA7E514#32
  | _ => 0#32

noncomputable abbrev lit0t0_875 (i : Nat) : BitVec 32 := match i % 128 with
  | 0 => 0x3E9C011E#32
  | 1 => 0x3E829D01#32
  | 2 => 0x3F86267A#32
  | 3 => 0x3FD77744#32
  | 4 => 0x3F8981E1#32
  | 5 => 0x3E425DA2#32
  | 6 => 0x407551FF#32
  | 7 => 0x3F3C59BC#32
  | 8 => 0xBE880645#32
  | 9 => 0xBF9A680A#32
  | 10 => 0x3F89501C#32
  | 11 => 0x3FC27AFD#32
  | 12 => 0xBF430276#32
  | 13 => 0x3FB455D3#32
  | 14 => 0x3FDE0726#32
  | 15 => 0xBF841701#32
  | 16 => 0x402395D4#32
  | 17 => 0x3EE3E784#32
  | 18 => 0x3F9CEC41#32
  | 19 => 0x403A239E#32
  | 20 => 0x3FB12B75#32
  | 21 => 0x3EFDFE62#32
  | 22 => 0x3FFAC7B0#32
  | 23 => 0x402A2269#32
  | 24 => 0x3F6F6C83#32
  | 25 => 0x3ED55FDF#32
  | 26 => 0x3FD3C5A2#32
  | 27 => 0xBED265CC#32
  | 28 => 0x4058EE37#32
  | 29 => 0x3F65786F#32
  | 30 => 0x3ED08CD6#32
  | 31 => 0x3F490149#32
  | 32 => 0xBF0C3FB0#32
  | 33 => 0xBF865CFF#32
  | 34 => 0x3F329653#32
  | 35 => 0xBFC4A3EE#32
  | 36 => 0x3F78F8EA#32
  | 37 => 0xBF0D4D22#32
  | 38 => 0x3E29D356#32
  | 39 => 0x3FC9600A#32
  | 40 => 0x3F46CEDE#32
  | 41 => 0xBF47DF78#32
  | 42 => 0x3E15C270#32
  | 43 => 0x3FEA377B#32
  | 44 => 0xBEAD86D5#32
  | 45 => 0xBF55A184#32
  | 46 => 0x4052B578#32
  | 47 => 0x403F51E4#32
  | 48 => 0x3E3CEE16#32
  | 49 => 0x4013767E#32
  | 50 => 0xBF11E32F#32
  | 51 => 0x3FE8D96A#32
  | 52 => 0x40023886#32
  | 53 => 0x3F706180#32
  | 54 => 0xBE0BF41A#32
  | 55 => 0xBF81AE1B#32
  | 56 => 0x406702C8#32
  | 57 => 0xBE13547A#32
  | 58 => 0x400EC68D#32
  | 59 => 0x3F8077EB#32
  | 60 => 0x3F47675A#32
  | 61 => 0x3E2C9E8A#32
  | 62 => 0x40973B30#32
  | 63 => 0x3EF20DFD#32
  | 64 => 0x40573878#32
  | 65 => 0x3FB658A8#32
  | 66 => 0xBF759D40#32
  | 67 => 0x40474C14#32
  | 68 => 0x4002119F#32
  | 69 => 0xBE3F1330#32
  | 70 => 0xBF147DDA#32
  | 71 => 0xBF2B8382#32
  | 72 => 0x3F991872#32
  | 73 => 0x3F9936F5#32
  | 74 => 0xBF2D539F#32
  | 75 => 0xBD46DB9E#32
  | 76 => 0x3EE49930#32
  | 77 => 0xBDF74BC1#32
  | 78 => 0x3FC202F9#32
  | 79 => 0xBFCC900C#32
  | 80 => 0xBF239322#32
  | 81 => 0x3F5FB8D3#32
  | 82 => 0xBEDA74B1#32
  | 83 => 0x3FD03B72#32
  | 84 => 0xBF789E0E#32
  | 85 => 0xBE589C99#32
  | 86 => 0xBE45C68C#32
  | 87 => 0x3DE544D7#32
  | 88 => 0x3ED01FF4#32
  | 89 => 0x3FEA39F8#32
  | 90 => 0x4090F161#32
  | 91 => 0xBFBE253F#32
  | 92 => 0x3F5BDB8C#32
  | 93 => 0xBD55EF82#32
  | 94 => 0x3F6EDD8C#32
  | 95 => 0xBE51DFD8#32
  | 96 => 0x3E7D7C21#32
  | 97 => 0xBF7D8A64#32
  | 98 => 0x3F1F82B8#32
  | 99 => 0x3FC4E2E5#32
  | 100 => 0x3F9104AA#32
  | 101 => 0xBF0F5DE5#32
  | 102 => 0x3F79B1D0#32
  | 103 => 0x3F3AE427#32
  | 104 => 0xBF453FAC#32
  | 105 => 0x3F77A3DC#32
  | 106 => 0x3EA087A6#32
  | 107 => 0xBF13F6A7#32
  | 108 => 0x40067202#32
  | 109 => 0x3F8BDA2F#32
  | 110 => 0x3DC660D7#32
  | 111 => 0x3E40FF84#32
  | 112 => 0xBCF789DB#32
  | 113 => 0x400CABBE#32
  | 114 => 0x3EC071D8#32
  | 115 => 0x3E351952#32
  | 116 => 0xBF10B076#32
  | 117 => 0x3F9691DE#32
  | 118 => 0xBF035E7A#32
  | 119 => 0xBE13F1BE#32
  | 120 => 0x3E6546B4#32
  | 121 => 0xBF820F85#32
  | 122 => 0xBEC32535#32
  | 123 => 0x3F7E8CC6#32
  | 124 => 0x3ECC375E#32
  | 125 => 0x400C83B9#32
  | 126 => 0x3DD40786#32
  | 127 => 0x3F9FA6D6#32
  | _ => 0#32

noncomputable abbrev lit0t0_876 (i : Nat) : BitVec 32 := match i % 128 with
  | 0 => 0xBF95E553#32
  | 1 => 0x404915C8#32
  | 2 => 0x3F83A31A#32
  | 3 => 0x3FA118C1#32
  | 4 => 0xBFA9189A#32
  | 5 => 0x406723F5#32
  | 6 => 0xBF6EAA5A#32
  | 7 => 0x4062CE85#32
  | 8 => 0xBF4189AA#32
  | 9 => 0x3FF5979F#32
  | 10 => 0x3F484B8C#32
  | 11 => 0x403027C0#32
  | 12 => 0xBEDCEFFD#32
  | 13 => 0xBE13742B#32
  | 14 => 0xBF304F9B#32
  | 15 => 0x3E9A6AFD#32
  | 16 => 0x407CBE56#32
  | 17 => 0xBE6BB0D0#32
  | 18 => 0x3F261F99#32
  | 19 => 0xBFA2E3CC#32
  | 20 => 0x3FF8A018#32
  | 21 => 0xBF28593C#32
  | 22 => 0x3E9073F0#32
  | 23 => 0xBD0D9B54#32
  | 24 => 0xBF65478E#32
  | 25 => 0xBF16C961#32
  | 26 => 0x3F13164F#32
  | 27 => 0x3FBA28C1#32
  | 28 => 0x3F85B52A#32
  | 29 => 0x4002FC6C#32
  | 30 => 0x3F050C87#32
  | 31 => 0x3DB94810#32
  | 32 => 0x3FAD8A61#32
  | 33 => 0xBDEE6EBF#32
  | 34 => 0x3F50309C#32
  | 35 => 0xBE5C18B1#32
  | 36 => 0x3DAA1050#32
  | 37 => 0x4055EA06#32
  | 38 => 0xBC95FE50#32
  | 39 => 0xBF1D1143#32
  | 40 => 0x3FC1FB44#32
  | 41 => 0x3F4ACD22#32
  | 42 => 0x3EDD75BA#32
  | 43 => 0x3FD9B802#32
  | 44 => 0xBF1810A7#32
  | 45 => 0xBF3E8987#32
  | 46 => 0xBF27DF4B#32
  | 47 => 0xBF0073CE#32
  | 48 => 0xBED956BE#32
  | 49 => 0xBF2FC60C#32
  | 50 => 0xBFA873DF#32
  | 51 => 0xBF7D6500#32
  | 52 => 0x3FADA3DD#32
  | 53 => 0xBE576849#32
  | 54 => 0x3F5B7ED4#32
  | 55 => 0x3F1FB00E#32
  | 56 => 0x3F9D4F09#32
  | 57 => 0xBF25B00E#32
  | 58 => 0xBEAD6124#32
  | 59 => 0xBF0F2AAB#32
  | 60 => 0x3EE42CC4#32
  | 61 => 0x3F673AA5#32
  | 62 => 0xBE2F9B5D#32
  | 63 => 0x3F950AD4#32
  | 64 => 0x3EA235F4#32
  | 65 => 0x3F8507EA#32
  | 66 => 0x3E96F9C5#32
  | 67 => 0xBF406938#32
  | 68 => 0x4014A200#32
  | 69 => 0x3F04A203#32
  | 70 => 0x3F7C4B47#32
  | 71 => 0x3F1BA9C1#32
  | 72 => 0x3FDD9AEC#32
  | 73 => 0x3DB86AAC#32
  | 74 => 0x3F3E440B#32
  | 75 => 0x400AE9AF#32
  | 76 => 0x3F3B7764#32
  | 77 => 0x3F7AE79C#32
  | 78 => 0x4034A108#32
  | 79 => 0xBDFE5046#32
  | 80 => 0x3FD9C444#32
  | 81 => 0xBE5913BF#32
  | 82 => 0x3F7DD0FF#32
  | 83 => 0xBF4EAE3B#32
  | 84 => 0x3E6875D9#32
  | 85 => 0xBFD21AD2#32
  | 86 => 0x3F7ACD60#32
  | 87 => 0x3F974992#32
  | 88 => 0x3F898F18#32
  | 89 => 0x40122CF2#32
  | 90 => 0x3FDCAAF6#32
  | 91 => 0xBEFC7A7A#32
  | 92 => 0x3ECFAFC6#32
  | 93 => 0x3E5DD05D#32
  | 94 => 0xBDDBB2E3#32
  | 95 => 0x3F85FFA0#32
  | 96 => 0x4035A78D#32
  | 97 => 0x3E39CB46#32
  | 98 => 0x3F32C1C2#32
  | 99 => 0x3F054389#32
  | 100 => 0xBCE281E8#32
  | 101 => 0xBF0D8808#32
  | 102 => 0xBE03AA17#32
  | 103 => 0xBF333FB7#32
  | 104 => 0x3EBC585A#32
  | 105 => 0x3F1FB36C#32
  | 106 => 0xBDDA3EA4#32
  | 107 => 0x3F279BF3#32
  | 108 => 0xBE5E718B#32
  | 109 => 0xBF79AC90#32
  | 110 => 0x40117CFE#32
  | 111 => 0x3FA3B831#32
  | 112 => 0x3FA77CC2#32
  | 113 => 0xBF1476BA#32
  | 114 => 0xBF2F7423#32
  | 115 => 0xBF879ECD#32
  | 116 => 0xBF87EB7A#32
  | 117 => 0xBF6C20BA#32
  | 118 => 0xBF33B20E#32
  | 119 => 0xBFB7B276#32
  | 120 => 0xBF19DFED#32
  | 121 => 0xBF48E390#32
  | 122 => 0xBEA937EA#32
  | 123 => 0xBEA739FD#32
  | 124 => 0x3F8F0C9B#32
  | 125 => 0x3E1701F5#32
  | 126 => 0x3FA9CDCA#32
  | 127 => 0x3F183546#32
  | _ => 0#32

noncomputable abbrev lit0t0_877 (i : Nat) : BitVec 32 := match i % 128 with
  | 0 => 0x3EA18D6B#32
  | 1 => 0x3F272927#32
  | 2 => 0xBF468461#32
  | 3 => 0x3DEEB567#32
  | 4 => 0xBEC3D421#32
  | 5 => 0xBEBB2173#32
  | 6 => 0x3FC2BA15#32
  | 7 => 0xBE2E2D29#32
  | 8 => 0x3F834E4B#32
  | 9 => 0x4081F00B#32
  | 10 => 0xBF6998A8#32
  | 11 => 0x4009B669#32
  | 12 => 0xBF3F5551#32
  | 13 => 0xBE9AD3D8#32
  | 14 => 0xBBF9EB65#32
  | 15 => 0xBF09CC16#32
  | 16 => 0xBF4B3BE0#32
  | 17 => 0xBE2317A5#32
  | 18 => 0xBE80FC4F#32
  | 19 => 0x4026F10D#32
  | 20 => 0x40526948#32
  | 21 => 0x3F8B54AD#32
  | 22 => 0x3F8A74DE#32
  | 23 => 0x3F4E0094#32
  | 24 => 0xBF811F60#32
  | 25 => 0xBF256F38#32
  | 26 => 0x3FEDF50C#32
  | 27 => 0xBF7D12E6#32
  | 28 => 0xBF958AD9#32
  | 29 => 0xBE3C0E25#32
  | 30 => 0xBEAB49F8#32
  | 31 => 0x3F314041#32
  | 32 => 0x3F324CA1#32
  | 33 => 0x3E92EC4C#32
  | 34 => 0x3EA91B0F#32
  | 35 => 0xBEC314BB#32
  | 36 => 0xBEE47C4B#32
  | 37 => 0xBE1323A0#32
  | 38 => 0xBF2CCC5B#32
  | 39 => 0xBF55E1A8#32
  | 40 => 0xBFC52AB4#32
  | 41 => 0xBDBE043B#32
  | 42 => 0xBF092CF4#32
  | 43 => 0x3E332352#32
  | 44 => 0x3F74AF56#32
  | 45 => 0x3E23EAFB#32
  | 46 => 0x3DCEFC11#32
  | 47 => 0x40437C0A#32
  | 48 => 0x3FEA7C8B#32
  | 49 => 0xBD7B2927#32
  | 50 => 0x3F4696C2#32
  | 51 => 0xBF26F123#32
  | 52 => 0x402CB268#32
  | 53 => 0x3F0B6CD1#32
  | 54 => 0xBFAF56A9#32
  | 55 => 0x4043DDA1#32
  | 56 => 0x403113E0#32
  | 57 => 0x3FBA97EA#32
  | 58 => 0x3F22687F#32
  | 59 => 0xBEBC4983#32
  | 60 => 0xBFB57FE2#32
  | 61 => 0x3E0DC7F4#32
  | 62 => 0xBF4E0430#32
  | 63 => 0xBBC2B997#32
  | 64 => 0x4007606C#32
  | 65 => 0xBF068008#32
  | 66 => 0xBEAA751F#32
  | 67 => 0xBF0C02D1#32
  | 68 => 0xBEBD18D5#32
  | 69 => 0xBFB66FCD#32
  | 70 => 0x3E28C2B8#32
  | 71 => 0x3FB29BE8#32
  | 72 => 0x3FAACD00#32
  | 73 => 0xBE1EFE1D#32
  | 74 => 0xBF8CAD2C#32
  | 75 => 0x402B53B0#32
  | 76 => 0xBE2F7CA4#32
  | 77 => 0xBFA2AB56#32
  | 78 => 0x3F7CE448#32
  | 79 => 0x407A7C75#32
  | 80 => 0x3F3D8397#32
  | 81 => 0xBE199757#32
  | 82 => 0x3EB481CC#32
  | 83 => 0x3DADA833#32
  | 84 => 0xBF22D2F3#32
  | 85 => 0x4028D321#32
  | 86 => 0x3F8DF57A#32
  | 87 => 0xBFBA1FA9#32
  | 88 => 0xBF604041#32
  | 89 => 0xBE9E4C44#32
  | 90 => 0x4078B726#32
  | 91 => 0xBF683468#32
  | 92 => 0x3FB2EE77#32
  | 93 => 0x3F0918D9#32
  | 94 => 0x406ABA39#32
  | 95 => 0xBEA72408#32
  | 96 => 0x400725C6#32
  | 97 => 0x3F7A1875#32
  | 98 => 0x3F367B72#32
  | 99 => 0x3E0C3A0C#32
  | 100 => 0x40644CE1#32
  | 101 => 0xBEBB3070#32
  | 102 => 0xBE5E758B#32
  | 103 => 0x3FB79F25#32
  | 104 => 0xBE7E1D62#32
  | 105 => 0x3F4FE885#32
  | 106 => 0x3FAE62FD#32
  | 107 => 0xBEE3E072#32
  | 108 => 0xBF156702#32
  | 109 => 0x408D055F#32
  | 110 => 0xBFB0E2B0#32
  | 111 => 0x3FCD0C82#32
  | 112 => 0xBF669754#32
  | 113 => 0x3D619F7E#32
  | 114 => 0xBF9DA9F4#32
  | 115 => 0x3F5AD932#32
  | 116 => 0x3F611866#32
  | 117 => 0xBF45B16E#32
  | 118 => 0x3FBD6CDC#32
  | 119 => 0x3F988ECA#32
  | 120 => 0xBF08E200#32
  | 121 => 0x3E6E7139#32
  | 122 => 0x3F71AE41#32
  | 123 => 0xBF20BE4A#32
  | 124 => 0x3F64A181#32
  | 125 => 0x3F29B016#32
  | 126 => 0x401BACA7#32
  | 127 => 0x3D584096#32
  | _ => 0#32

noncomputable abbrev lit0t0_878 (i : Nat) : BitVec 32 := match i % 128 with
  | 0 => 0x3DE9AF1A#32
  | 1 => 0x3F06DE6A#32
  | 2 => 0x4005E631#32
  | 3 => 0xBF7A42F5#32
  | 4 => 0x3F437E92#32
  | 5 => 0x3F32586C#32
  | 6 => 0xBFB3BFB3#32
  | 7 => 0x3FF90E22#32
  | 8 => 0xBF0937BD#32
  | 9 => 0x3FDE06A6#32
  | 10 => 0x3DA7ECF5#32
  | 11 => 0x3D88BE8B#32
  | 12 => 0xBE81136F#32
  | 13 => 0xBDCD2FE4#32
  | 14 => 0xBF847EF4#32
  | 15 => 0x3C89C879#32
  | 16 => 0xBEBF3E7F#32
  | 17 => 0x3EF6A768#32
  | 18 => 0x3FE43A41#32
  | 19 => 0x3F471A18#32
  | 20 => 0xBF83A3BE#32
  | 21 => 0x3FC8B4AD#32
  | 22 => 0xBE7F9786#32
  | 23 => 0xBF4F2D0A#32
  | 24 => 0x3F083F44#32
  | 25 => 0xBF748F6A#32
  | 26 => 0xBEBF3CD7#32
  | 27 => 0xBEFA3D26#32
  | 28 => 0x3F950AD8#32
  | 29 => 0x3F58BAC6#32
  | 30 => 0x3E855E70#32
  | 31 => 0x3F619AE3#32
  | 32 => 0x3FB82607#32
  | 33 => 0xBF991B3F#32
  | 34 => 0x3DF0046C#32
  | 35 => 0xBE378A44#32
  | 36 => 0x3F15033C#32
  | 37 => 0x3F895E1D#32
  | 38 => 0xBDD4A5E4#32
  | 39 => 0x3FBF7F69#32
  | 40 => 0x3F71DDBA#32
  | 41 => 0x3F9374FF#32
  | 42 => 0x3F0CD642#32
  | 43 => 0x3FE9F623#32
  | 44 => 0x3EF9A87E#32
  | 45 => 0x3FF289C0#32
  | 46 => 0xBDDB32DE#32
  | 47 => 0xBED89005#32
  | 48 => 0x3F3428C9#32
  | 49 => 0x3E25231F#32
  | 50 => 0x3E96BAFE#32
  | 51 => 0x402B80E4#32
  | 52 => 0xBF969951#32
  | 53 => 0xBED1AD77#32
  | 54 => 0x3E07F3BA#32
  | 55 => 0xBF4774F8#32
  | 56 => 0x3FF1D260#32
  | 57 => 0x3F815E53#32
  | 58 => 0xBF157C80#32
  | 59 => 0x3F14C0E1#32
  | 60 => 0x3F0F3676#32
  | 61 => 0x4024DF76#32
  | 62 => 0x401D510C#32
  | 63 => 0xBFADA351#32
  | 64 => 0x3F9C4595#32
  | 65 => 0x4067C8CD#32
  | 66 => 0xBFC26EBF#32
  | 67 => 0xBE88C89B#32
  | 68 => 0xBEB02EA5#32
  | 69 => 0x3FD76A3A#32
  | 70 => 0x3F3E9B61#32
  | 71 => 0xBEA0ACE7#32
  | 72 => 0xBF54E3ED#32
  | 73 => 0x3DFB8DA6#32
  | 74 => 0x3F9EBD5E#32
  | 75 => 0x402C9CA1#32
  | 76 => 0xBE86B8D8#32
  | 77 => 0x3FC33E3B#32
  | 78 => 0x40086352#32
  | 79 => 0x3FAE41F4#32
  | 80 => 0xBF9297BE#32
  | 81 => 0x3FB414DB#32
  | 82 => 0x3F0880B6#32
  | 83 => 0x3F8C93F9#32
  | 84 => 0xBEBA88F9#32
  | 85 => 0x40469DC0#32
  | 86 => 0x3F2FF620#32
  | 87 => 0x3FB345BE#32
  | 88 => 0x3F24048C#32
  | 89 => 0xBF2B46F4#32
  | 90 => 0x3EBBC915#32
  | 91 => 0xBE380B46#32
  | 92 => 0x3FAD79DF#32
  | 93 => 0x3E3EC9F2#32
  | 94 => 0xBED4E3B7#32
  | 95 => 0xBEC761A9#32
  | 96 => 0xBF6D1C32#32
  | 97 => 0xBEE81710#32
  | 98 => 0x3EB24386#32
  | 99 => 0x3FC3737F#32
  | 100 => 0x3FE2DE7B#32
  | 101 => 0x40051A57#32
  | 102 => 0xBF03243B#32
  | 103 => 0xBE90BDDF#32
  | 104 => 0xBF62E8C3#32
  | 105 => 0x3DDFD013#32
  | 106 => 0x3FB877DE#32
  | 107 => 0x3FB45903#32
  | 108 => 0x402758D0#32
  | 109 => 0x40636064#32
  | 110 => 0xBF25FC73#32
  | 111 => 0xBEB5B68C#32
  | 112 => 0x3FE4DD74#32
  | 113 => 0x3FB288C3#32
  | 114 => 0x3F08073F#32
  | 115 => 0x3FB7C82D#32
  | 116 => 0x3E6F11C5#32
  | 117 => 0x3F5020E9#32
  | 118 => 0x3FD5C806#32
  | 119 => 0xBFA41263#32
  | 120 => 0xBF289323#32
  | 121 => 0x3EC67ABC#32
  | 122 => 0x3E835735#32
  | 123 => 0x3F947778#32
  | 124 => 0xBE54D9F8#32
  | 125 => 0xBF53D3A6#32
  | 126 => 0x3F85F86A#32
  | 127 => 0xBF1D6E69#32
  | _ => 0#32

noncomputable abbrev lit0t0_879 (i : Nat) : BitVec 32 := match i % 128 with
  | 0 => 0x3EF864AC#32
  | 1 => 0x4025F977#32
  | 2 => 0xBE6A510E#32
  | 3 => 0x3F993AB9#32
  | 4 => 0x3E726720#32
  | 5 => 0x3E9E9E24#32
  | 6 => 0x3E80D10D#32
  | 7 => 0x3E60E7D0#32
  | 8 => 0x3F87F9C0#32
  | 9 => 0x3F91E846#32
  | 10 => 0x3EB815A9#32
  | 11 => 0x3FAFC98E#32
  | 12 => 0x3F92A65E#32
  | 13 => 0x3FBC794A#32
  | 14 => 0x3E10FCE3#32
  | 15 => 0xBF2AF0A0#32
  | 16 => 0x402617AB#32
  | 17 => 0x403750C5#32
  | 18 => 0xBCF22DBD#32
  | 19 => 0x3F3C58E4#32
  | 20 => 0xBEFCFC28#32
  | 21 => 0x3F2068EA#32
  | 22 => 0xBD54E503#32
  | 23 => 0x3F97F8FD#32
  | 24 => 0x3EC1A850#32
  | 25 => 0x3FA83737#32
  | 26 => 0x4007171A#32
  | 27 => 0xBFE1E195#32
  | 28 => 0xBF95AE2D#32
  | 29 => 0xBF846320#32
  | 30 => 0xBF1D4911#32
  | 31 => 0x3ECB5851#32
  | 32 => 0x3FEDF8B5#32
  | 33 => 0x3E72FA08#32
  | 34 => 0xBFA71C73#32
  | 35 => 0xBF73C78C#32
  | 36 => 0xBE91A66B#32
  | 37 => 0xBF1F3451#32
  | 38 => 0x401E12A7#32
  | 39 => 0xBEC7533F#32
  | 40 => 0x3F85A824#32
  | 41 => 0xBF183EC5#32
  | 42 => 0x3FB8B074#32
  | 43 => 0xBF1086C7#32
  | 44 => 0x3D11584B#32
  | 45 => 0x3F29F404#32
  | 46 => 0xBEF9F731#32
  | 47 => 0xBF97C5F0#32
  | 48 => 0xBEB94543#32
  | 49 => 0xBE819A17#32
  | 50 => 0x3FC4D427#32
  | 51 => 0x3E93F3C2#32
  | 52 => 0x3E3CFC68#32
  | 53 => 0xBF10E868#32
  | 54 => 0xBDA0CD57#32
  | 55 => 0x3F989A0D#32
  | 56 => 0x3F2CC0B2#32
  | 57 => 0xBF1E1544#32
  | 58 => 0x3F4FB9D7#32
  | 59 => 0xBE4B4BD8#32
  | 60 => 0x3FD8D0B7#32
  | 61 => 0xBDD870E7#32
  | 62 => 0xBED64DB5#32
  | 63 => 0xBF35769B#32
  | 64 => 0xBD8BB91D#32
  | 65 => 0x3EB90A85#32
  | 66 => 0x3EA4F47E#32
  | 67 => 0x3F3CD53F#32
  | 68 => 0x4044D724#32
  | 69 => 0x3E9AD4BE#32
  | 70 => 0x400C42B8#32
  | 71 => 0xBF6CF45E#32
  | 72 => 0x3D28E2B3#32
  | 73 => 0x3FD781B3#32
  | 74 => 0xBF54BBC4#32
  | 75 => 0xBECBDBE6#32
  | 76 => 0x3E46FFB8#32
  | 77 => 0x4009EFD7#32
  | 78 => 0x3FEF22F8#32
  | 79 => 0x3F4BB311#32
  | 80 => 0x3F23A387#32
  | 81 => 0xBE35A540#32
  | 82 => 0x40811130#32
  | 83 => 0xBE8E0A3D#32
  | 84 => 0xBDB330E5#32
  | 85 => 0x3F12EBE4#32
  | 86 => 0x3F90DC5D#32
  | 87 => 0x3F1BABD6#32
  | 88 => 0xBEE82AF1#32
  | 89 => 0x3F94C404#32
  | 90 => 0x3F8DA30D#32
  | 91 => 0xBCF1ED2D#32
  | 92 => 0xBEB4B24E#32
  | 93 => 0x405E6EEE#32
  | 94 => 0x3F87E112#32
  | 95 => 0xBF57322A#32
  | 96 => 0x3E89CCB1#32
  | 97 => 0xBDDB2222#32
  | 98 => 0x4027767F#32
  | 99 => 0x4007F6F0#32
  | 100 => 0xBF572702#32
  | 101 => 0xBCE76B07#32
  | 102 => 0xBFCB9BE3#32
  | 103 => 0xBFB230F7#32
  | 104 => 0x3FD863C8#32
  | 105 => 0xBDB14EE8#32
  | 106 => 0x3F39AD21#32
  | 107 => 0x3F54DEB3#32
  | 108 => 0xBF1D3FE3#32
  | 109 => 0x3FAF0E16#32
  | 110 => 0xBEAB22C2#32
  | 111 => 0x3D13E002#32
  | 112 => 0x3EFD8008#32
  | 113 => 0xBF42DC15#32
  | 114 => 0xBD97553B#32
  | 115 => 0xBE6282C0#32
  | 116 => 0x3E74C4A5#32
  | 117 => 0x3F9274E8#32
  | 118 => 0xBF3E4C17#32
  | 119 => 0x3ED01AEF#32
  | 120 => 0x3F6F25D4#32
  | 121 => 0x403860EE#32
  | 122 => 0x4004F8F4#32
  | 123 => 0xBF786FF0#32
  | 124 => 0xBE93287B#32
  | 125 => 0xBEDA18E8#32
  | 126 => 0x3DE702C5#32
  | 127 => 0x3EB96B14#32
  | _ => 0#32

noncomputable abbrev lit0t0_880 (i : Nat) : BitVec 32 := match i % 128 with
  | 0 => 0xBED09F15#32
  | 1 => 0xBF819EA1#32
  | 2 => 0x4069F1F0#32
  | 3 => 0x403EBD43#32
  | 4 => 0x3E102FC0#32
  | 5 => 0x3EBC49DF#32
  | 6 => 0x3F5FE4F7#32
  | 7 => 0xBF08E76C#32
  | 8 => 0x3C8B2DF7#32
  | 9 => 0x3F8CCEA1#32
  | 10 => 0x3F9DEF40#32
  | 11 => 0x3E7D186C#32
  | 12 => 0x3F73FA26#32
  | 13 => 0xBD9F7076#32
  | 14 => 0xBF87058B#32
  | 15 => 0x40266302#32
  | 16 => 0x3F238686#32
  | 17 => 0x3F1543C4#32
  | 18 => 0x3F8014C0#32
  | 19 => 0xBE89E75A#32
  | 20 => 0x400639F4#32
  | 21 => 0x3F8FF627#32
  | 22 => 0x40105A99#32
  | 23 => 0x3F6A01DC#32
  | 24 => 0xBE8F06CB#32
  | 25 => 0x3E43A0E3#32
  | 26 => 0xBFAA8C24#32
  | 27 => 0x3FEC8B26#32
  | 28 => 0xBDC5A99A#32
  | 29 => 0x3EBC2C4A#32
  | 30 => 0x3FA7F36C#32
  | 31 => 0xBE4DEE65#32
  | 32 => 0xBE9ACBA0#32
  | 33 => 0xBE8E65E2#32
  | 34 => 0x4013D5C9#32
  | 35 => 0x3F8F16ED#32
  | 36 => 0x3D62F580#32
  | 37 => 0x3E028566#32
  | 38 => 0x3F2125CF#32
  | 39 => 0x3DD4C357#32
  | 40 => 0x3D96B2D2#32
  | 41 => 0x3C621172#32
  | 42 => 0xBE0C6E85#32
  | 43 => 0x3F1308E7#32
  | 44 => 0x3E28F3D7#32
  | 45 => 0x3E966A0F#32
  | 46 => 0x3FF23935#32
  | 47 => 0x3F1C3E7D#32
  | 48 => 0x3FF7AA1E#32
  | 49 => 0xBF6F5912#32
  | 50 => 0xBF9AB9C2#32
  | 51 => 0xBE9AD30D#32
  | 52 => 0xBFA91231#32
  | 53 => 0x3DA7AA4F#32
  | 54 => 0xBEDB5733#32
  | 55 => 0xBF68D604#32
  | 56 => 0x3F8720F4#32
  | 57 => 0x4009055F#32
  | 58 => 0x3EF9053C#32
  | 59 => 0x3FB91180#32
  | 60 => 0xBBB3C08E#32
  | 61 => 0xBE48DB49#32
  | 62 => 0x3F436D94#32
  | 63 => 0xBE18B0BA#32
  | 64 => 0xBF64DBE4#32
  | 65 => 0xBE4B6CA3#32
  | 66 => 0x3FCBFA66#32
  | 67 => 0x3E976635#32
  | 68 => 0xBD691281#32
  | 69 => 0xBF868A28#32
  | 70 => 0x3FFC1B4B#32
  | 71 => 0x3FAC45E9#32
  | 72 => 0xBD55C74A#32
  | 73 => 0x3FC6EC36#32
  | 74 => 0xBF0B60B1#32
  | 75 => 0x3FA2D161#32
  | 76 => 0xBE1FFB27#32
  | 77 => 0xBF4D4838#32
  | 78 => 0x3F7CCA50#32
  | 79 => 0x4050AB02#32
  | 80 => 0x3DFF3F95#32
  | 81 => 0xBF803D4A#32
  | 82 => 0xBEBA5D85#32
  | 83 => 0x3FFE5E04#32
  | 84 => 0x3FCD819A#32
  | 85 => 0x3EF6C256#32
  | 86 => 0xBF47A238#32
  | 87 => 0x3F5731F6#32
  | 88 => 0x3FA2421D#32
  | 89 => 0x3FB2E929#32
  | 90 => 0xBF912333#32
  | 91 => 0xBF1B6ECA#32
  | 92 => 0x3E03E274#32
  | 93 => 0xBF9AF93A#32
  | 94 => 0x3F9D8471#32
  | 95 => 0x409D8060#32
  | 96 => 0xBEC3338E#32
  | 97 => 0xBFA5292C#32
  | 98 => 0x4002FE6B#32
  | 99 => 0x3FEEFA3F#32
  | 100 => 0x3FA7D69B#32
  | 101 => 0x3DB94092#32
  | 102 => 0xBD3031CC#32
  | 103 => 0xBD5891DF#32
  | 104 => 0xBF922209#32
  | 105 => 0xBF55637E#32
  | 106 => 0x3EEA8D4C#32
  | 107 => 0x3EFCD8DA#32
  | 108 => 0xBE3100C7#32
  | 109 => 0x3E3E1067#32
  | 110 => 0x4042BD0A#32
  | 111 => 0x4083C039#32
  | 112 => 0x3F2C4334#32
  | 113 => 0xBF3765F1#32
  | 114 => 0x3F8764D2#32
  | 115 => 0xBE9F5291#32
  | 116 => 0x3FEA0824#32
  | 117 => 0xBF1C649A#32
  | 118 => 0xBD96B51C#32
  | 119 => 0xBEF3C87A#32
  | 120 => 0x3EE37735#32
  | 121 => 0x3F91C222#32
  | 122 => 0x40388B44#32
  | 123 => 0x400D15C3#32
  | 124 => 0x40458987#32
  | 125 => 0x3FF43CFC#32
  | 126 => 0x3FEAD122#32
  | 127 => 0x3FA10C00#32
  | _ => 0#32

noncomputable abbrev lit0t0_881 (i : Nat) : BitVec 32 := match i % 128 with
  | 0 => 0x3F01F9DA#32
  | 1 => 0x3FDE8010#32
  | 2 => 0xBEE38D80#32
  | 3 => 0x40037E35#32
  | 4 => 0x3F10E374#32
  | 5 => 0x40200563#32
  | 6 => 0x3F8115DD#32
  | 7 => 0x3FFCDE8C#32
  | 8 => 0xBED43172#32
  | 9 => 0xBE891A47#32
  | 10 => 0xBFC87335#32
  | 11 => 0x38D042A6#32
  | 12 => 0x4028BBCB#32
  | 13 => 0xBE610B14#32
  | 14 => 0x3FDBDAD8#32
  | 15 => 0x3E38C0B3#32
  | 16 => 0xBF2F1A4B#32
  | 17 => 0x3FA378D4#32
  | 18 => 0x3E64DDDB#32
  | 19 => 0x3F4AC986#32
  | 20 => 0x4025A73C#32
  | 21 => 0xBE2E78CF#32
  | 22 => 0xBC906354#32
  | 23 => 0xBF3859DD#32
  | 24 => 0x3ED4F3A8#32
  | 25 => 0xBEC6720E#32
  | 26 => 0x3F6DF9A6#32
  | 27 => 0x3F769001#32
  | 28 => 0x3F28C033#32
  | 29 => 0x3FBA660B#32
  | 30 => 0x3E0E5F9E#32
  | 31 => 0x3FD01E5B#32
  | 32 => 0x3FD31202#32
  | 33 => 0xBCC8F6C5#32
  | 34 => 0xBF1921FA#32
  | 35 => 0xBF5B7979#32
  | 36 => 0x40A91A6E#32
  | 37 => 0xBD8D7F73#32
  | 38 => 0xBFB12C08#32
  | 39 => 0x3FBFE142#32
  | 40 => 0x3F4EDF89#32
  | 41 => 0xBF10CEA0#32
  | 42 => 0x3FF98EA5#32
  | 43 => 0x4049F3F8#32
  | 44 => 0xBEEA02D4#32
  | 45 => 0x3FD206FB#32
  | 46 => 0x3F101A00#32
  | 47 => 0x3E90E771#32
  | 48 => 0xBE6CD6DA#32
  | 49 => 0x3ECB4F64#32
  | 50 => 0xBF1190C8#32
  | 51 => 0x3E9E5BEE#32
  | 52 => 0x3C4E2419#32
  | 53 => 0xBEA33E45#32
  | 54 => 0x3F0EE29B#32
  | 55 => 0xBF37F8B2#32
  | 56 => 0x3FB25929#32
  | 57 => 0x3F86F8EC#32
  | 58 => 0xBE89E4DE#32
  | 59 => 0xBE847E15#32
  | 60 => 0x4001ECA2#32
  | 61 => 0xBE34B118#32
  | 62 => 0xBE1E81FD#32
  | 63 => 0x3FC1D392#32
  | 64 => 0x3DB8812D#32
  | 65 => 0x40274E38#32
  | 66 => 0x400D9A8B#32
  | 67 => 0x40351D01#32
  | 68 => 0x3F85C136#32
  | 69 => 0x3F6802A9#32
  | 70 => 0xBFDBA666#32
  | 71 => 0xBF022901#32
  | 72 => 0xBF0A7462#32
  | 73 => 0x3EA7C798#32
  | 74 => 0x3CDD50FB#32
  | 75 => 0x3E9DF5CB#32
  | 76 => 0xBED5C333#32
  | 77 => 0x3F9391A4#32
  | 78 => 0x409FB126#32
  | 79 => 0x3F17AC9F#32
  | 80 => 0x3F19BD64#32
  | 81 => 0xBECEF703#32
  | 82 => 0xBF681116#32
  | 83 => 0x3E9D5E93#32
  | 84 => 0xBD3849B6#32
  | 85 => 0xBDD9B128#32
  | 86 => 0xBEE093BD#32
  | 87 => 0x3F497810#32
  | 88 => 0x3FF347E2#32
  | 89 => 0xBF1B0B91#32
  | 90 => 0x3F6E92F4#32
  | 91 => 0x3ED0E35C#32
  | 92 => 0x3EC90A28#32
  | 93 => 0x3DC46037#32
  | 94 => 0x3ED26A78#32
  | 95 => 0x404FA7EA#32
  | 96 => 0x40368093#32
  | 97 => 0x3FE1BD8F#32
  | 98 => 0x402C5158#32
  | 99 => 0x3F8B7C6A#32
  | 100 => 0x3FA44BB7#32
  | 101 => 0xBD107FC2#32
  | 102 => 0x3E0F9A5F#32
  | 103 => 0x3F54DFBA#32
  | 104 => 0xBF07D16D#32
  | 105 => 0x3FA5F10E#32
  | 106 => 0x3F14FABC#32
  | 107 => 0x4081E38C#32
  | 108 => 0x3FCAA43F#32
  | 109 => 0xBEF49A6A#32
  | 110 => 0xBE9F2FED#32
  | 111 => 0x3FEF3F0E#32
  | 112 => 0xBEFFFE37#32
  | 113 => 0xBF1C19B5#32
  | 114 => 0x3F77E620#32
  | 115 => 0x3FF2F0CC#32
  | 116 => 0x3F683B2E#32
  | 117 => 0x3EE7B760#32
  | 118 => 0xBF8AFF05#32
  | 119 => 0x400436C2#32
  | 120 => 0x3DDFAF9F#32
  | 121 => 0xBE5CEE7A#32
  | 122 => 0xBDDF8AED#32
  | 123 => 0xBF88B7B3#32
  | 124 => 0xBE8C0A44#32
  | 125 => 0x3FE47282#32
  | 126 => 0x3D9419D1#32
  | 127 => 0xBF315E24#32
  | _ => 0#32

noncomputable abbrev lit0t0_882 (i : Nat) : BitVec 32 := match i % 128 with
  | 0 => 0xBE44C9E3#32
  | 1 => 0xBEF73268#32
  | 2 => 0x3DFA189E#32
  | 3 => 0xBFEEA885#32
  | 4 => 0x400DBE2F#32
  | 5 => 0xBF465D43#32
  | 6 => 0xBF407DC4#32
  | 7 => 0xBF27C4E0#32
  | 8 => 0x3EBA3CFD#32
  | 9 => 0x3F8BB08D#32
  | 10 => 0x3FEE8C98#32
  | 11 => 0x3EFD9FEA#32
  | 12 => 0x3EC47936#32
  | 13 => 0x3EF832B2#32
  | 14 => 0xBF56EBC8#32
  | 15 => 0x3D21EBC3#32
  | 16 => 0x3CA7F0F2#32
  | 17 => 0x3E8B1934#32
  | 18 => 0x3F82B0BD#32
  | 19 => 0x3FF83643#32
  | 20 => 0xBED81EA9#32
  | 21 => 0x3FF0F11E#32
  | 22 => 0xBF45AB35#32
  | 23 => 0x3E8B6B26#32
  | 24 => 0xBC9F38CD#32
  | 25 => 0x3F2F7986#32
  | 26 => 0x3F026848#32
  | 27 => 0x3FA752BA#32
  | 28 => 0xBE1B5899#32
  | 29 => 0xBD90F681#32
  | 30 => 0xBF553EF5#32
  | 31 => 0x3F32EDCD#32
  | 32 => 0xBE37B1AE#32
  | 33 => 0xBFEBAD21#32
  | 34 => 0xBF3491F1#32
  | 35 => 0xBEB06DC1#32
  | 36 => 0x3EFACCAA#32
  | 37 => 0xBEA09019#32
  | 38 => 0x3F18CBE8#32
  | 39 => 0x402F5DD1#32
  | 40 => 0x3FD53C60#32
  | 41 => 0x4057001D#32
  | 42 => 0xBAAF4DFA#32
  | 43 => 0x3F123E85#32
  | 44 => 0x3FDE128E#32
  | 45 => 0xBF63EB71#32
  | 46 => 0x3F6EC7F2#32
  | 47 => 0xBD937727#32
  | 48 => 0x402A20A6#32
  | 49 => 0xBED57A38#32
  | 50 => 0x3F02DE39#32
  | 51 => 0x3F0A98C2#32
  | 52 => 0x3F29952F#32
  | 53 => 0x40974B52#32
  | 54 => 0xBF5CC162#32
  | 55 => 0x3E9BE35C#32
  | 56 => 0x3F94B605#32
  | 57 => 0xBF7FED87#32
  | 58 => 0xBEC4F6F4#32
  | 59 => 0x3F449229#32
  | 60 => 0xBF0B31EF#32
  | 61 => 0x3EF64734#32
  | 62 => 0x3F0BA2B2#32
  | 63 => 0x401EF76C#32
  | 64 => 0xBE91B184#32
  | 65 => 0xBF79454C#32
  | 66 => 0x3F0503EE#32
  | 67 => 0x3EB53E87#32
  | 68 => 0xBF32DDC3#32
  | 69 => 0x3F5B030E#32
  | 70 => 0x3F6C2009#32
  | 71 => 0x3E69364D#32
  | 72 => 0xBF88B5A8#32
  | 73 => 0x3F7ECE74#32
  | 74 => 0x402A1DD7#32
  | 75 => 0x40828532#32
  | 76 => 0x3F4E66C6#32
  | 77 => 0x3F08EABE#32
  | 78 => 0xBD2E1287#32
  | 79 => 0x3F7AC870#32
  | 80 => 0xBEDE953A#32
  | 81 => 0x3E872248#32
  | 82 => 0xBF20AD13#32
  | 83 => 0x3FD198B8#32
  | 84 => 0x3F0720D6#32
  | 85 => 0x3F6018AF#32
  | 86 => 0x4061FC18#32
  | 87 => 0xBEFC618D#32
  | 88 => 0xBC928705#32
  | 89 => 0x3EFAD15E#32
  | 90 => 0xBEFB2A40#32
  | 91 => 0xBE15A28E#32
  | 92 => 0x3F232EF7#32
  | 93 => 0xBD53F899#32
  | 94 => 0xBEFAA686#32
  | 95 => 0x3E4DB1C6#32
  | 96 => 0x3FBFBC2A#32
  | 97 => 0x3FE3478B#32
  | 98 => 0x3F8B972B#32
  | 99 => 0x3FA53F3C#32
  | 100 => 0x40ACEA7A#32
  | 101 => 0xBEF070CC#32
  | 102 => 0x3F13AADF#32
  | 103 => 0xBF9BDBBE#32
  | 104 => 0x3FAC269D#32
  | 105 => 0x3FE33E57#32
  | 106 => 0x3E75532E#32
  | 107 => 0x3EE0B232#32
  | 108 => 0xBF0730E2#32
  | 109 => 0x40CF876D#32
  | 110 => 0x3D5877BD#32
  | 111 => 0x40047B27#32
  | 112 => 0x40993518#32
  | 113 => 0xBF49A638#32
  | 114 => 0x3F997AC5#32
  | 115 => 0xBF5723A8#32
  | 116 => 0x3FD5C110#32
  | 117 => 0x3F0FA2E8#32
  | 118 => 0xBEAA9B8B#32
  | 119 => 0xBE4BE4F9#32
  | 120 => 0x40007738#32
  | 121 => 0xBF918FA3#32
  | 122 => 0x3F4D5B6D#32
  | 123 => 0xBEA98861#32
  | 124 => 0x3E269489#32
  | 125 => 0x3F8389D2#32
  | 126 => 0xBF1BF0BC#32
  | 127 => 0x401326D3#32
  | _ => 0#32

noncomputable abbrev lit0t0_883 (i : Nat) : BitVec 32 := match i % 128 with
  | 0 => 0x3FD97CA9#32
  | 1 => 0x3E86D968#32
  | 2 => 0x3F86AF44#32
  | 3 => 0x3F96B38A#32
  | 4 => 0x3EA842F2#32
  | 5 => 0x40A27DEA#32
  | 6 => 0x403CAAA1#32
  | 7 => 0xBED9B680#32
  | 8 => 0xBF52340F#32
  | 9 => 0x3F1AD031#32
  | 10 => 0x3BF6C9D0#32
  | 11 => 0x3F07A99D#32
  | 12 => 0xBC837CE8#32
  | 13 => 0xBED79809#32
  | 14 => 0x3F24DBFA#32
  | 15 => 0x3F9A6EF2#32
  | 16 => 0xBD910191#32
  | 17 => 0x3E9099DF#32
  | 18 => 0x3F267E6E#32
  | 19 => 0x3F996AC7#32
  | 20 => 0xBF911257#32
  | 21 => 0x3E8FDB88#32
  | 22 => 0x3F87F198#32
  | 23 => 0xBDADEA30#32
  | 24 => 0xBEB60F0A#32
  | 25 => 0x3F81DCF8#32
  | 26 => 0x3F0845EB#32
  | 27 => 0x4014243E#32
  | 28 => 0xBF303484#32
  | 29 => 0x3C84C800#32
  | 30 => 0x3F0EA023#32
  | 31 => 0x4059D40D#32
  | 32 => 0x3FA769BF#32
  | 33 => 0xBF7BF638#32
  | 34 => 0x3EB75487#32
  | 35 => 0x4004193B#32
  | 36 => 0xBE4D8429#32
  | 37 => 0xBF91C717#32
  | 38 => 0x402C7FA4#32
  | 39 => 0x3E8EF074#32
  | 40 => 0xBFAA6705#32
  | 41 => 0xBF319582#32
  | 42 => 0x400BAFC2#32
  | 43 => 0x3FB97170#32
  | 44 => 0x3F465574#32
  | 45 => 0x3FB2DDC0#32
  | 46 => 0x3F635236#32
  | 47 => 0xBE5022AD#32
  | 48 => 0x3F0BA5F1#32
  | 49 => 0xBCA5EBAE#32
  | 50 => 0xBED4A963#32
  | 51 => 0xBEA045E6#32
  | 52 => 0xBEF8E8DE#32
  | 53 => 0xBE76A963#32
  | 54 => 0xBE83FBF6#32
  | 55 => 0x3F8E08C4#32
  | 56 => 0x3DDA64CB#32
  | 57 => 0x400328EB#32
  | 58 => 0xBF453894#32
  | 59 => 0x3FD56783#32
  | 60 => 0x3EEC42E7#32
  | 61 => 0x4004835F#32
  | 62 => 0x3FF7C3CF#32
  | 63 => 0x401956D1#32
  | 64 => 0x4104762C#32
  | 65 => 0xBF1DE1E8#32
  | 66 => 0x405DE3EF#32
  | 67 => 0x402C5F6D#32
  | 68 => 0x3FDB8506#32
  | 69 => 0x3F61C696#32
  | 70 => 0x3F8AC094#32
  | 71 => 0x3F36EA6F#32
  | 72 => 0x3F8AE376#32
  | 73 => 0x400B0E04#32
  | 74 => 0x3F4697B2#32
  | 75 => 0x3EE369D8#32
  | 76 => 0x3F955833#32
  | 77 => 0x3DCB4E10#32
  | 78 => 0x3C561F22#32
  | 79 => 0x406B61DC#32
  | 80 => 0x3D8CBC36#32
  | 81 => 0x3F08E3BE#32
  | 82 => 0x3FD6C6C8#32
  | 83 => 0x3DEB3308#32
  | 84 => 0xBE7AB381#32
  | 85 => 0x3FA61C9E#32
  | 86 => 0x4030356E#32
  | 87 => 0xBE6D0A72#32
  | 88 => 0x3FB312F8#32
  | 89 => 0x3E8A8D35#32
  | 90 => 0x3F876E64#32
  | 91 => 0x3FB74E22#32
  | 92 => 0x4033B3ED#32
  | 93 => 0xBF9BB76C#32
  | 94 => 0xBE5DEA7D#32
  | 95 => 0x3F94EAAC#32
  | 96 => 0x3DAD1201#32
  | 97 => 0x3FA68093#32
  | 98 => 0x402CC0D0#32
  | 99 => 0xBEC30A08#32
  | 100 => 0xBCA6722C#32
  | 101 => 0xBF30F335#32
  | 102 => 0xBF662E0D#32
  | 103 => 0x403C9F68#32
  | 104 => 0x3FB6B654#32
  | 105 => 0x3E703E04#32
  | 106 => 0xBF8A9D12#32
  | 107 => 0xBE431DA3#32
  | 108 => 0xBDA41F78#32
  | 109 => 0x40892AB1#32
  | 110 => 0xBE89D913#32
  | 111 => 0x4063630E#32
  | 112 => 0xBFF448EE#32
  | 113 => 0x406EF996#32
  | 114 => 0x3FCB4F57#32
  | 115 => 0x3F87494E#32
  | 116 => 0x3DA78C29#32
  | 117 => 0x3F8A65D8#32
  | 118 => 0x3F8C4C00#32
  | 119 => 0x3F5FC02E#32
  | 120 => 0xBF342FD5#32
  | 121 => 0x408003C3#32
  | 122 => 0xBE894955#32
  | 123 => 0x3D140058#32
  | 124 => 0xBF63C529#32
  | 125 => 0x3DF91639#32
  | 126 => 0x3FA23FA6#32
  | 127 => 0x3F8CC1D8#32
  | _ => 0#32

noncomputable abbrev lit0t0_884 (i : Nat) : BitVec 32 := match i % 128 with
  | 0 => 0x3D937ED7#32
  | 1 => 0xBCEC56CB#32
  | 2 => 0x3F8411D5#32
  | 3 => 0x3F7DA8C2#32
  | 4 => 0x3FE0A043#32
  | 5 => 0xBEAC0C59#32
  | 6 => 0xBFB9C024#32
  | 7 => 0x3FDE1B76#32
  | 8 => 0xBF1391CD#32
  | 9 => 0x3FA2FFBA#32
  | 10 => 0xBE93F577#32
  | 11 => 0xBF5C7842#32
  | 12 => 0x3DB11EC7#32
  | 13 => 0xBE02B269#32
  | 14 => 0xBF2F2EBF#32
  | 15 => 0xBDF60206#32
  | 16 => 0x3F82EFA6#32
  | 17 => 0xBCE7F457#32
  | 18 => 0x400A2422#32
  | 19 => 0xBEC1C197#32
  | 20 => 0x3F14BB23#32
  | 21 => 0x3F1B0442#32
  | 22 => 0xBF2C0059#32
  | 23 => 0x3E9415DB#32
  | 24 => 0xBF9D108D#32
  | 25 => 0xBF526110#32
  | 26 => 0xBD367139#32
  | 27 => 0x3FB738C9#32
  | 28 => 0xBFC05E78#32
  | 29 => 0xBF40EB3A#32
  | 30 => 0x3F254A0F#32
  | 31 => 0xBED4F657#32
  | 32 => 0x3FF215C2#32
  | 33 => 0xBF76709A#32
  | 34 => 0x3EAD22D6#32
  | 35 => 0x3FB0A86A#32
  | 36 => 0xBF7DE7B0#32
  | 37 => 0xBF1DBEFB#32
  | 38 => 0x3EEE1E89#32
  | 39 => 0xBEB71777#32
  | 40 => 0x3EEE2EE4#32
  | 41 => 0x3FDA79A6#32
  | 42 => 0x3F354EEB#32
  | 43 => 0x3E1BBC63#32
  | 44 => 0x3F04FDA0#32
  | 45 => 0xBDACBEC2#32
  | 46 => 0x3FA1684F#32
  | 47 => 0x40102E6E#32
  | 48 => 0xBF82554D#32
  | 49 => 0x3F84893D#32
  | 50 => 0xBDC7382C#32
  | 51 => 0xBE2458C9#32
  | 52 => 0x3F908652#32
  | 53 => 0xBDBE6BAA#32
  | 54 => 0xBF95B419#32
  | 55 => 0xBF86D938#32
  | 56 => 0xBF05D9D4#32
  | 57 => 0x3F8DDE8F#32
  | 58 => 0xBF504A6D#32
  | 59 => 0xBD8F7667#32
  | 60 => 0x3EF91022#32
  | 61 => 0x3EA9B8DB#32
  | 62 => 0xBF531A6B#32
  | 63 => 0xBD153883#32
  | 64 => 0x3F8E0B52#32
  | 65 => 0x3EBD09B0#32
  | 66 => 0x3FA09AA2#32
  | 67 => 0xBD45C089#32
  | 68 => 0x40075E15#32
  | 69 => 0x3D3236C4#32
  | 70 => 0x3C06508E#32
  | 71 => 0x40178AE4#32
  | 72 => 0xBE4404E9#32
  | 73 => 0x3FCB8615#32
  | 74 => 0x3F64A145#32
  | 75 => 0xBF680D43#32
  | 76 => 0xBD88E424#32
  | 77 => 0x3E9AA549#32
  | 78 => 0x3F3FF1DC#32
  | 79 => 0x40139CD0#32
  | 80 => 0x3FDB4905#32
  | 81 => 0xBF8E8A2F#32
  | 82 => 0x3FBA07D5#32
  | 83 => 0x3FFAECAF#32
  | 84 => 0x3F16C090#32
  | 85 => 0xBF3D5D6A#32
  | 86 => 0x3F75D9F6#32
  | 87 => 0x3F43C551#32
  | 88 => 0x3F1641CB#32
  | 89 => 0xBE8768CA#32
  | 90 => 0x3F968340#32
  | 91 => 0xBF06BD03#32
  | 92 => 0x3E86D4B5#32
  | 93 => 0x3ED985C4#32
  | 94 => 0x40430D1A#32
  | 95 => 0xBF9C16C3#32
  | 96 => 0xBDDF1D5D#32
  | 97 => 0xBF3D531B#32
  | 98 => 0x400BD258#32
  | 99 => 0xBEB6B5DB#32
  | 100 => 0xBF47C9C0#32
  | 101 => 0xC007780B#32
  | 102 => 0xBE87D8FB#32
  | 103 => 0xBF84C423#32
  | 104 => 0x3FBBC663#32
  | 105 => 0x401F91EF#32
  | 106 => 0x3EB44B92#32
  | 107 => 0x3FA7DD7E#32
  | 108 => 0x4086F633#32
  | 109 => 0x3E68E2F2#32
  | 110 => 0xBF2EA36A#32
  | 111 => 0xBE712FF6#32
  | 112 => 0xBEE92FB9#32
  | 113 => 0x3DBDEE6A#32
  | 114 => 0x3FD28B54#32
  | 115 => 0x3E1E4B23#32
  | 116 => 0x3F9AE995#32
  | 117 => 0x4020CBBA#32
  | 118 => 0x3EF8AD66#32
  | 119 => 0xBFC51781#32
  | 120 => 0x3F47CD23#32
  | 121 => 0x3F0CAC4E#32
  | 122 => 0x3F4E6B50#32
  | 123 => 0x3CD0251F#32
  | 124 => 0xBF53DA1C#32
  | 125 => 0x4010097A#32
  | 126 => 0xBD2A04AD#32
  | 127 => 0xBF2521ED#32
  | _ => 0#32

noncomputable abbrev lit0t0_885 (i : Nat) : BitVec 32 := match i % 128 with
  | 0 => 0x3FB0BAE5#32
  | 1 => 0xBF499DA3#32
  | 2 => 0xBD679A74#32
  | 3 => 0x3DFDB69A#32
  | 4 => 0xBF0ABA8B#32
  | 5 => 0x3FB96021#32
  | 6 => 0xBD2FCC60#32
  | 7 => 0xBE31115D#32
  | 8 => 0xBEA16DE2#32
  | 9 => 0x402C5139#32
  | 10 => 0xBF958F07#32
  | 11 => 0x4007FB3B#32
  | 12 => 0x3E2793C6#32
  | 13 => 0x3FFAA11A#32
  | 14 => 0xBE8B0BAD#32
  | 15 => 0x3F14E4C0#32
  | 16 => 0xBF116E22#32
  | 17 => 0xBEB52D8A#32
  | 18 => 0xBF979A59#32
  | 19 => 0xBE158EB6#32
  | 20 => 0x3E5FDDD5#32
  | 21 => 0x40315547#32
  | 22 => 0xBEB7F00A#32
  | 23 => 0xBEC158B0#32
  | 24 => 0x3DE3C8E1#32
  | 25 => 0x3F47F695#32
  | 26 => 0xBF4677FB#32
  | 27 => 0x3E1CE53E#32
  | 28 => 0xBC8C2AC3#32
  | 29 => 0x3F0F8862#32
  | 30 => 0x3E9D8C95#32
  | 31 => 0x3FB8A647#32
  | 32 => 0x3FED7242#32
  | 33 => 0x3F0FF472#32
  | 34 => 0x3F2D9BC8#32
  | 35 => 0xBEEB85A0#32
  | 36 => 0xBF28FF77#32
  | 37 => 0x408D6641#32
  | 38 => 0x3FAF7F76#32
  | 39 => 0x406CB1DF#32
  | 40 => 0x3F18ED4E#32
  | 41 => 0x3F8DCEE0#32
  | 42 => 0x3F626D86#32
  | 43 => 0x3F78C4E8#32
  | 44 => 0x3FDE8855#32
  | 45 => 0x3EFC2952#32
  | 46 => 0x3EB600C9#32
  | 47 => 0xBCA22E0D#32
  | 48 => 0x3FCD8A67#32
  | 49 => 0xBFDCDE8A#32
  | 50 => 0xBE45598E#32
  | 51 => 0x3F8E973F#32
  | 52 => 0x40873BD6#32
  | 53 => 0xBE87329A#32
  | 54 => 0x3FB379F3#32
  | 55 => 0xBF5D6C17#32
  | 56 => 0xBE0A5765#32
  | 57 => 0xBF008D25#32
  | 58 => 0xBF221A32#32
  | 59 => 0x3EDFC80F#32
  | 60 => 0xBE637449#32
  | 61 => 0x3E417D5D#32
  | 62 => 0x3EADC55F#32
  | 63 => 0xBDA27360#32
  | 64 => 0x3DEE6A56#32
  | 65 => 0xBFB74E95#32
  | 66 => 0x3E806D02#32
  | 67 => 0xBF2166BF#32
  | 68 => 0x3D4AF24B#32
  | 69 => 0x3FBEDC84#32
  | 70 => 0xBEEC6D68#32
  | 71 => 0x3E2E5832#32
  | 72 => 0xBEEB29CE#32
  | 73 => 0x3FFE73DB#32
  | 74 => 0xBEC45B29#32
  | 75 => 0x3F2FE783#32
  | 76 => 0x3F0F4E68#32
  | 77 => 0x3D829C07#32
  | 78 => 0x3F24B23C#32
  | 79 => 0xBF120181#32
  | 80 => 0x3FAA9403#32
  | 81 => 0xBE973A7B#32
  | 82 => 0xBF438AE5#32
  | 83 => 0x3F85223C#32
  | 84 => 0xBCB0A047#32
  | 85 => 0xBE9A47FA#32
  | 86 => 0x4018628C#32
  | 87 => 0x3E8DD93C#32
  | 88 => 0x3F80455C#32
  | 89 => 0x3F0C1496#32
  | 90 => 0x402EA288#32
  | 91 => 0x4013EB11#32
  | 92 => 0xBF0BB945#32
  | 93 => 0xBEEF2B70#32
  | 94 => 0xBF2D47F2#32
  | 95 => 0x3EE81A8E#32
  | 96 => 0x3FAA0F2B#32
  | 97 => 0x3E8BEAB6#32
  | 98 => 0xBF0598CC#32
  | 99 => 0x3FA49A85#32
  | 100 => 0xBECD1F00#32
  | 101 => 0xBF6C6622#32
  | 102 => 0x3E969153#32
  | 103 => 0xBEE9F8F2#32
  | 104 => 0x407D7C2C#32
  | 105 => 0xBF5587C2#32
  | 106 => 0x3FEC75D2#32
  | 107 => 0x3F5DC359#32
  | 108 => 0xBECE9F68#32
  | 109 => 0x3F51C688#32
  | 110 => 0xBEB431BC#32
  | 111 => 0x401CF5E2#32
  | 112 => 0x3EBBF580#32
  | 113 => 0x3FFDEDFA#32
  | 114 => 0x3E7AD388#32
  | 115 => 0x4020DE9A#32
  | 116 => 0x3C448C19#32
  | 117 => 0x40057910#32
  | 118 => 0x3FD4D3E8#32
  | 119 => 0x3F049DC0#32
  | 120 => 0x40887C2B#32
  | 121 => 0xBFA8242A#32
  | 122 => 0xBEC909B8#32
  | 123 => 0xBEE15596#32
  | 124 => 0x3FF3EBF5#32
  | 125 => 0x3ECD6A8B#32
  | 126 => 0x3F8A5246#32
  | 127 => 0xBE55AC33#32
  | _ => 0#32

noncomputable abbrev lit0t0_886 (i : Nat) : BitVec 32 := match i % 128 with
  | 0 => 0x40437C9B#32
  | 1 => 0x3FD507EE#32
  | 2 => 0x3F1E86CD#32
  | 3 => 0xBF18812C#32
  | 4 => 0x3ED544FC#32
  | 5 => 0x3EC724F6#32
  | 6 => 0x3FF53A1C#32
  | 7 => 0xBF035C49#32
  | 8 => 0x3ED40BB3#32
  | 9 => 0xBF8F9271#32
  | 10 => 0x3FA0ECCD#32
  | 11 => 0x400FCDEE#32
  | 12 => 0x3C979FA2#32
  | 13 => 0x401BD0BE#32
  | 14 => 0xBE0F6028#32
  | 15 => 0x3FA9FFAE#32
  | 16 => 0x3F6C5E7D#32
  | 17 => 0xBF3B8720#32
  | 18 => 0x3F319D62#32
  | 19 => 0x3F537CAA#32
  | 20 => 0x3F7E3A34#32
  | 21 => 0x3D6F1E26#32
  | 22 => 0xBEE3BB11#32
  | 23 => 0x3FC34ED7#32
  | 24 => 0xBD3D5FD2#32
  | 25 => 0x3DFF2CC0#32
  | 26 => 0x3F1FABCC#32
  | 27 => 0x3DAF596E#32
  | 28 => 0x3DE5C113#32
  | 29 => 0xBF5A8932#32
  | 30 => 0xBFC8DB6D#32
  | 31 => 0xBF4A90C0#32
  | 32 => 0x3EB33815#32
  | 33 => 0x3FC43314#32
  | 34 => 0xBF0D640C#32
  | 35 => 0xBD9D11C4#32
  | 36 => 0xBE20972F#32
  | 37 => 0xBF53AE6C#32
  | 38 => 0x3EE7916C#32
  | 39 => 0x402AEB03#32
  | 40 => 0xBFF5FCBF#32
  | 41 => 0x3FA9A7A1#32
  | 42 => 0x4047D9F5#32
  | 43 => 0xBF3CADFD#32
  | 44 => 0xBF154374#32
  | 45 => 0xBEE76352#32
  | 46 => 0x3FEF6039#32
  | 47 => 0x3FB22976#32
  | 48 => 0x3F2DF7FE#32
  | 49 => 0x3FDF6FCA#32
  | 50 => 0x400CA7F3#32
  | 51 => 0xBF992C52#32
  | 52 => 0xBEC97999#32
  | 53 => 0x3FC2BEC2#32
  | 54 => 0x40493848#32
  | 55 => 0x3EC29BE9#32
  | 56 => 0xBF2395EE#32
  | 57 => 0x3E9D8CCE#32
  | 58 => 0xBD4B16C5#32
  | 59 => 0xBF80D0AC#32
  | 60 => 0xBE85F8DA#32
  | 61 => 0x3F88683E#32
  | 62 => 0x3EDBDA81#32
  | 63 => 0x3F95B89C#32
  | 64 => 0x3FB86AE7#32
  | 65 => 0x3FEC62F1#32
  | 66 => 0x3F868D58#32
  | 67 => 0x40BA1DE0#32
  | 68 => 0xBF056094#32
  | 69 => 0x3FCFAA7E#32
  | 70 => 0x3F55F341#32
  | 71 => 0xBEF91C90#32
  | 72 => 0x408B8E68#32
  | 73 => 0x3F8ED544#32
  | 74 => 0xBF133813#32
  | 75 => 0x3F79DB4C#32
  | 76 => 0x3EA6B6F9#32
  | 77 => 0x3F830E4D#32
  | 78 => 0xBD345E07#32
  | 79 => 0x40280CF6#32
  | 80 => 0xBE54B0AA#32
  | 81 => 0x402E88B9#32
  | 82 => 0x3E1E81DB#32
  | 83 => 0x3E55AD52#32
  | 84 => 0x3FEA9C7C#32
  | 85 => 0x3E8C0909#32
  | 86 => 0xBCC4F867#32
  | 87 => 0x3E966691#32
  | 88 => 0xBFB8C33C#32
  | 89 => 0x400F6A4E#32
  | 90 => 0x3F8B21F4#32
  | 91 => 0x4042C08F#32
  | 92 => 0x3ED4D8D0#32
  | 93 => 0x3F10E880#32
  | 94 => 0x405D96C2#32
  | 95 => 0xBE850F96#32
  | 96 => 0x3F20130C#32
  | 97 => 0x403B8EEB#32
  | 98 => 0xBFAC968D#32
  | 99 => 0x40341EAC#32
  | 100 => 0xBEC48A3B#32
  | 101 => 0x3F233E5C#32
  | 102 => 0x3F41EC4D#32
  | 103 => 0x40476CE2#32
  | 104 => 0x3FA695A7#32
  | 105 => 0xBE6DD461#32
  | 106 => 0xBEA68C61#32
  | 107 => 0x3E973E5A#32
  | 108 => 0xBE0923DC#32
  | 109 => 0x3EB14BE0#32
  | 110 => 0xBF4425EA#32
  | 111 => 0x3FDD08C3#32
  | 112 => 0x4032EFB3#32
  | 113 => 0x3F7F034E#32
  | 114 => 0x3F87564A#32
  | 115 => 0x3E9F65EB#32
  | 116 => 0xBF24AF35#32
  | 117 => 0x40299F76#32
  | 118 => 0x4095A733#32
  | 119 => 0x40590AD0#32
  | 120 => 0x3EBC0622#32
  | 121 => 0x3F148543#32
  | 122 => 0x3E42509A#32
  | 123 => 0x3FC148D7#32
  | 124 => 0xBF996C06#32
  | 125 => 0x3FC63A29#32
  | 126 => 0x3E7D7B83#32
  | 127 => 0x3E83067F#32
  | _ => 0#32

noncomputable abbrev lit0t0_887 (i : Nat) : BitVec 32 := match i % 128 with
  | 0 => 0xBE67A753#32
  | 1 => 0xBF24865F#32
  | 2 => 0x3EC53ADB#32
  | 3 => 0x3EE8366A#32
  | 4 => 0x3E507744#32
  | 5 => 0xBF0986E9#32
  | 6 => 0x3F8C324F#32
  | 7 => 0x3FC406F1#32
  | 8 => 0x3DFEE068#32
  | 9 => 0x40370F27#32
  | 10 => 0xBF618B2D#32
  | 11 => 0xBFABC61D#32
  | 12 => 0x3F7B3D0F#32
  | 13 => 0xBE9A41E8#32
  | 14 => 0xBDE66660#32
  | 15 => 0x4053875F#32
  | 16 => 0x3F189F26#32
  | 17 => 0xBFA8CA15#32
  | 18 => 0xBF0DBFCC#32
  | 19 => 0xBD4F946C#32
  | 20 => 0x3F835F5F#32
  | 21 => 0x3F691D7A#32
  | 22 => 0xBF72B22C#32
  | 23 => 0xBE28007C#32
  | 24 => 0x3F229A95#32
  | 25 => 0xBF90DD8A#32
  | 26 => 0x3FC5258D#32
  | 27 => 0xBF75CBF8#32
  | 28 => 0xBF778554#32
  | 29 => 0x3FAA1DAE#32
  | 30 => 0x3F9B1157#32
  | 31 => 0xBE4C4C13#32
  | 32 => 0x3EE69C21#32
  | 33 => 0x3E9701A3#32
  | 34 => 0x3DD8CA1E#32
  | 35 => 0x3EE8F825#32
  | 36 => 0xBED5EAB4#32
  | 37 => 0xBD96F00B#32
  | 38 => 0x401C1E99#32
  | 39 => 0x3E1597C7#32
  | 40 => 0xBF7725EE#32
  | 41 => 0xBF812F74#32
  | 42 => 0x3F82CBD3#32
  | 43 => 0x3CD766E8#32
  | 44 => 0xBE2C1DDE#32
  | 45 => 0x40152098#32
  | 46 => 0x3FB3A8F5#32
  | 47 => 0x3C89460D#32
  | 48 => 0x3FD9B189#32
  | 49 => 0x3FA86632#32
  | 50 => 0x40142FEB#32
  | 51 => 0xBEB5FB24#32
  | 52 => 0xBEDD2B3F#32
  | 53 => 0xBEBB5023#32
  | 54 => 0x3EEB9984#32
  | 55 => 0x3F396B7F#32
  | 56 => 0x3F33AE4C#32
  | 57 => 0xBF9794DB#32
  | 58 => 0x3FB34C6F#32
  | 59 => 0xBF279BF2#32
  | 60 => 0x4045F362#32
  | 61 => 0xBF127CD4#32
  | 62 => 0x40122794#32
  | 63 => 0x3FEB6432#32
  | 64 => 0x3EF4616A#32
  | 65 => 0xBDD79451#32
  | 66 => 0x400F980C#32
  | 67 => 0x3FA47676#32
  | 68 => 0x3F8641D2#32
  | 69 => 0x3F9A793A#32
  | 70 => 0xBF389C86#32
  | 71 => 0x3D7D389E#32
  | 72 => 0xBFA5DC85#32
  | 73 => 0x3E9F02A1#32
  | 74 => 0xBFAAFE49#32
  | 75 => 0x3E9E6112#32
  | 76 => 0x3F9FCA23#32
  | 77 => 0x3EB5006C#32
  | 78 => 0xBF10D8A9#32
  | 79 => 0x3F81FA84#32
  | 80 => 0x401862EB#32
  | 81 => 0xBF4CCF13#32
  | 82 => 0xBE35AF89#32
  | 83 => 0xBF5A26C6#32
  | 84 => 0x3F9B7299#32
  | 85 => 0xBF875EDF#32
  | 86 => 0x406C64EC#32
  | 87 => 0x3FB6A257#32
  | 88 => 0x3FB478A2#32
  | 89 => 0xBEE5439C#32
  | 90 => 0xBE9638FB#32
  | 91 => 0xBFB71C85#32
  | 92 => 0xBE3FC031#32
  | 93 => 0x3FC3A25E#32
  | 94 => 0x40BCAA16#32
  | 95 => 0x3F80F796#32
  | 96 => 0xBF6BF9D4#32
  | 97 => 0xBD5FC5E9#32
  | 98 => 0x40021689#32
  | 99 => 0x404D5882#32
  | 100 => 0x3E46E055#32
  | 101 => 0x400F1ECB#32
  | 102 => 0x3F87EAFC#32
  | 103 => 0xBF93E7C9#32
  | 104 => 0xBEA8BFA5#32
  | 105 => 0x3FC20607#32
  | 106 => 0xBE3A4C69#32
  | 107 => 0x3F5F880C#32
  | 108 => 0x3E3BC213#32
  | 109 => 0x3EBB1E26#32
  | 110 => 0xBF0E0915#32
  | 111 => 0xBEA60423#32
  | 112 => 0xBEB96C4A#32
  | 113 => 0x3E88A8CB#32
  | 114 => 0xBF878931#32
  | 115 => 0x3FE95905#32
  | 116 => 0xBE8A9B93#32
  | 117 => 0xBF2F4068#32
  | 118 => 0xBF4B3A5B#32
  | 119 => 0xBF3E159F#32
  | 120 => 0xBDD220AD#32
  | 121 => 0x38EE4377#32
  | 122 => 0xBE9D0EC0#32
  | 123 => 0xBCEE35F6#32
  | 124 => 0x3FBA34C1#32
  | 125 => 0x3EE9853A#32
  | 126 => 0xBEB03FF1#32
  | 127 => 0xBF707D42#32
  | _ => 0#32

noncomputable abbrev lit0t0_888 (i : Nat) : BitVec 32 := match i % 128 with
  | 0 => 0xBF47546E#32
  | 1 => 0xBF552666#32
  | 2 => 0x3D03B154#32
  | 3 => 0xBF45D589#32
  | 4 => 0x401FAC8C#32
  | 5 => 0xBF8F36DC#32
  | 6 => 0x4029F1E5#32
  | 7 => 0x400F1094#32
  | 8 => 0x3F97ADA6#32
  | 9 => 0x3FFAED29#32
  | 10 => 0x40360FE5#32
  | 11 => 0x3FD2903E#32
  | 12 => 0xBF74D2E3#32
  | 13 => 0xBEE71AD2#32
  | 14 => 0xBF158E1F#32
  | 15 => 0xBE7DC560#32
  | 16 => 0xBFA36C8C#32
  | 17 => 0x3F9138D9#32
  | 18 => 0x3F088251#32
  | 19 => 0x3FE9D315#32
  | 20 => 0xBE4945AB#32
  | 21 => 0x3EB0198C#32
  | 22 => 0x400EB286#32
  | 23 => 0x40003E35#32
  | 24 => 0xBEBA0513#32
  | 25 => 0xBE06D70C#32
  | 26 => 0x3FA1CA9A#32
  | 27 => 0x3E2091EA#32
  | 28 => 0xBFA46200#32
  | 29 => 0x3F8B9474#32
  | 30 => 0xBF64A3DB#32
  | 31 => 0xBE8895F3#32
  | 32 => 0xBEB896D1#32
  | 33 => 0xBE8C9C5F#32
  | 34 => 0x4001E9EB#32
  | 35 => 0x3F20FF18#32
  | 36 => 0xBD9E445B#32
  | 37 => 0x4086F747#32
  | 38 => 0xBF9F4175#32
  | 39 => 0x3F8321F6#32
  | 40 => 0xBDC8707A#32
  | 41 => 0xBEA3814B#32
  | 42 => 0x3E95A7D3#32
  | 43 => 0x400CF8EB#32
  | 44 => 0x404FCD4F#32
  | 45 => 0x4025FA89#32
  | 46 => 0x3F4FE17F#32
  | 47 => 0x3ED633C6#32
  | 48 => 0xC00E57FF#32
  | 49 => 0x3FB98F98#32
  | 50 => 0xBDD18A37#32
  | 51 => 0xBF86A10D#32
  | 52 => 0x3F006DD7#32
  | 53 => 0x3E7ABAD1#32
  | 54 => 0x3FEA4475#32
  | 55 => 0x3F269F07#32
  | 56 => 0x3F61632A#32
  | 57 => 0x3F99BF49#32
  | 58 => 0x3FB10B2E#32
  | 59 => 0xBF0EB9B6#32
  | 60 => 0x3DFF56D7#32
  | 61 => 0x3F070B20#32
  | 62 => 0x3F823D8B#32
  | 63 => 0x3F791CB8#32
  | 64 => 0xBF3A952E#32
  | 65 => 0x3F4C344B#32
  | 66 => 0x3EEA8E3A#32
  | 67 => 0x3F966955#32
  | 68 => 0x3FCDCBEA#32
  | 69 => 0x3ED000B8#32
  | 70 => 0x3ECBD27C#32
  | 71 => 0x3EDA8D86#32
  | 72 => 0xBE6292FB#32
  | 73 => 0xBE3DC8C1#32
  | 74 => 0x3FFE6C77#32
  | 75 => 0x3F232FB0#32
  | 76 => 0x3F8EF885#32
  | 77 => 0xBF4275EA#32
  | 78 => 0x3E8879EE#32
  | 79 => 0x3D07747C#32
  | 80 => 0x3F39D4BB#32
  | 81 => 0x3E5E600E#32
  | 82 => 0xBF303077#32
  | 83 => 0x3F1EADE3#32
  | 84 => 0x3B968058#32
  | 85 => 0x402831F5#32
  | 86 => 0xBE9BF582#32
  | 87 => 0x40323A66#32
  | 88 => 0x401EC33A#32
  | 89 => 0x3F4628DF#32
  | 90 => 0xBF575590#32
  | 91 => 0xBF1DE910#32
  | 92 => 0xBFD523CB#32
  | 93 => 0x402458D4#32
  | 94 => 0x3F9B3D7F#32
  | 95 => 0x3F9A460E#32
  | 96 => 0x3F65EFF0#32
  | 97 => 0x3F38ECB5#32
  | 98 => 0x400040B6#32
  | 99 => 0x3FAB1C40#32
  | 100 => 0xBF0501D7#32
  | 101 => 0x40693859#32
  | 102 => 0x3FB93E5B#32
  | 103 => 0x3F5E988B#32
  | 104 => 0x3EE767D8#32
  | 105 => 0x3F7F6B78#32
  | 106 => 0xBF28F0E6#32
  | 107 => 0x4089D3B4#32
  | 108 => 0x3F314973#32
  | 109 => 0xBF957D9E#32
  | 110 => 0x3FC1A2D5#32
  | 111 => 0x400A1476#32
  | 112 => 0xBF55A30D#32
  | 113 => 0xBF1ED73D#32
  | 114 => 0xBC955DC6#32
  | 115 => 0xBF30EA47#32
  | 116 => 0xBD93D792#32
  | 117 => 0x3FE14D03#32
  | 118 => 0xBFD66BC3#32
  | 119 => 0x4001638A#32
  | 120 => 0x4029B8F1#32
  | 121 => 0xBE9F8D31#32
  | 122 => 0x3F8DE5A8#32
  | 123 => 0x3F23CDFF#32
  | 124 => 0x3DC48C96#32
  | 125 => 0x3FF94E5E#32
  | 126 => 0xBEC94E95#32
  | 127 => 0x3E28D5FE#32
  | _ => 0#32

noncomputable abbrev lit0t0_889 (i : Nat) : BitVec 32 := match i % 128 with
  | 0 => 0xBEB76314#32
  | 1 => 0x3ECEEED7#32
  | 2 => 0x3EA3A40E#32
  | 3 => 0x3F4E6568#32
  | 4 => 0x3EE91F7B#32
  | 5 => 0xBF8606BE#32
  | 6 => 0x3FB84B1D#32
  | 7 => 0xBFA05CE7#32
  | 8 => 0x40391275#32
  | 9 => 0x4043F156#32
  | 10 => 0x3FCA0C2C#32
  | 11 => 0x3EB3F3C6#32
  | 12 => 0x3F50F9A3#32
  | 13 => 0x3F36BE5B#32
  | 14 => 0x3F9FBC86#32
  | 15 => 0xBD664410#32
  | 16 => 0x3FBBC2E9#32
  | 17 => 0x3F02F7E7#32
  | 18 => 0x3E9FE761#32
  | 19 => 0xBF487210#32
  | 20 => 0x3FAEC8CD#32
  | 21 => 0xBF8871FE#32
  | 22 => 0x40B8977E#32
  | 23 => 0x3FE3BF8C#32
  | 24 => 0xBF81BC0E#32
  | 25 => 0x3E350D2A#32
  | 26 => 0x3F1C1D50#32
  | 27 => 0xBF01C817#32
  | 28 => 0x4005FA58#32
  | 29 => 0x3EE9C967#32
  | 30 => 0xBE5D3298#32
  | 31 => 0x3EBBF8EB#32
  | 32 => 0xBED78C82#32
  | 33 => 0x3F9CF3AE#32
  | 34 => 0x40006B6B#32
  | 35 => 0x409AEB73#32
  | 36 => 0xBF7C0E05#32
  | 37 => 0x3FEBD924#32
  | 38 => 0x3F9476FD#32
  | 39 => 0xBFB5C48E#32
  | 40 => 0x3E9EAD02#32
  | 41 => 0xBF983D05#32
  | 42 => 0x3FB4D93E#32
  | 43 => 0x401D1F94#32
  | 44 => 0xBFC7B4D0#32
  | 45 => 0xBEE3D3B6#32
  | 46 => 0xBFC5C4BB#32
  | 47 => 0x3E83C921#32
  | 48 => 0xBF946D42#32
  | 49 => 0x3E777007#32
  | 50 => 0xBE88ABBA#32
  | 51 => 0x3F288957#32
  | 52 => 0x3F09927E#32
  | 53 => 0x3F2FC5A3#32
  | 54 => 0xBF815B0E#32
  | 55 => 0x401A15EE#32
  | 56 => 0xBE060DFA#32
  | 57 => 0xBE20CAD1#32
  | 58 => 0x3F9F43FB#32
  | 59 => 0x3F5CA475#32
  | 60 => 0xBFA29299#32
  | 61 => 0x4080F009#32
  | 62 => 0x3F0C85BD#32
  | 63 => 0x3F285F14#32
  | 64 => 0xBFF6DA9A#32
  | 65 => 0xBF83D383#32
  | 66 => 0x3E494A81#32
  | 67 => 0x3F93A7C1#32
  | 68 => 0xBF1FAE98#32
  | 69 => 0x3FBBEB5A#32
  | 70 => 0x3D421BD0#32
  | 71 => 0x3F6B7038#32
  | 72 => 0x3FBE7736#32
  | 73 => 0x3F849F5A#32
  | 74 => 0x3FBF7459#32
  | 75 => 0xBE86292F#32
  | 76 => 0x3F79654B#32
  | 77 => 0x3E890DD4#32
  | 78 => 0x3EAB4D1F#32
  | 79 => 0x3C7D70BD#32
  | 80 => 0xBF884A03#32
  | 81 => 0x3E55D135#32
  | 82 => 0xBE1E29E8#32
  | 83 => 0x3FE480FD#32
  | 84 => 0x3FA8F497#32
  | 85 => 0x3F928621#32
  | 86 => 0xBF1953B8#32
  | 87 => 0x408FF29E#32
  | 88 => 0x3F08AC32#32
  | 89 => 0xBFB212A0#32
  | 90 => 0xBF0B3B9C#32
  | 91 => 0xBF457B91#32
  | 92 => 0xBF13F4DA#32
  | 93 => 0x3DC97DEB#32
  | 94 => 0x3FC4B6CD#32
  | 95 => 0xBE5D3B0E#32
  | 96 => 0x3FAF8F37#32
  | 97 => 0xBEF48F24#32
  | 98 => 0x400F5FBF#32
  | 99 => 0x400CBA28#32
  | 100 => 0x3FC17E72#32
  | 101 => 0x3FCE8578#32
  | 102 => 0xBEA19751#32
  | 103 => 0xBF168938#32
  | 104 => 0xBF3FE53A#32
  | 105 => 0x4085E7E2#32
  | 106 => 0x40228DCC#32
  | 107 => 0xBED3FCBE#32
  | 108 => 0xBF23AD22#32
  | 109 => 0x3F21A17E#32
  | 110 => 0xBD1FDE90#32
  | 111 => 0xBD8CA195#32
  | 112 => 0x40395B36#32
  | 113 => 0x3F8F3D32#32
  | 114 => 0x3FB9F53E#32
  | 115 => 0x3FA36E2B#32
  | 116 => 0x3EDF791D#32
  | 117 => 0xBDA29BE6#32
  | 118 => 0x3FC2BFB6#32
  | 119 => 0x40527573#32
  | 120 => 0x3F7CB690#32
  | 121 => 0x3FB3FD4A#32
  | 122 => 0xBDFF5D4F#32
  | 123 => 0x3FC6B345#32
  | 124 => 0xBD0D1602#32
  | 125 => 0xBF9915FE#32
  | 126 => 0xBEDA79B0#32
  | 127 => 0xBF466B24#32
  | _ => 0#32

noncomputable abbrev lit0t0_890 (i : Nat) : BitVec 32 := match i % 128 with
  | 0 => 0xBEE7CE90#32
  | 1 => 0xBF822FCC#32
  | 2 => 0x3F9EE0C2#32
  | 3 => 0x3F3300F8#32
  | 4 => 0xBF8983EB#32
  | 5 => 0xBD75CC26#32
  | 6 => 0xBF80E89A#32
  | 7 => 0x3FC2DF9D#32
  | 8 => 0x401B69A4#32
  | 9 => 0xBF8F0160#32
  | 10 => 0x40089CE5#32
  | 11 => 0x3F3D4E52#32
  | 12 => 0x3E936A84#32
  | 13 => 0xBF849E0E#32
  | 14 => 0xBFA539A0#32
  | 15 => 0x402D0201#32
  | 16 => 0x3F8EEAF6#32
  | 17 => 0x3FADF92A#32
  | 18 => 0x40193C22#32
  | 19 => 0xBEC5C874#32
  | 20 => 0x3F13FB76#32
  | 21 => 0x401C1A33#32
  | 22 => 0x3F5267CA#32
  | 23 => 0xBF457034#32
  | 24 => 0xBF604387#32
  | 25 => 0xBD9220E6#32
  | 26 => 0x3FB940BF#32
  | 27 => 0xBF370805#32
  | 28 => 0xBDC3FCF7#32
  | 29 => 0xBE00E199#32
  | 30 => 0x40B002BA#32
  | 31 => 0xBE41A0A0#32
  | 32 => 0x3FE934F8#32
  | 33 => 0xBE2B1C16#32
  | 34 => 0xBF28223B#32
  | 35 => 0x3F98A946#32
  | 36 => 0x3F4D03E2#32
  | 37 => 0xBF0FC87A#32
  | 38 => 0xBFA1FCC2#32
  | 39 => 0xBF68D2A2#32
  | 40 => 0x408CC4C3#32
  | 41 => 0x3EEB8390#32
  | 42 => 0x3F656F1C#32
  | 43 => 0xBE8E6E67#32
  | 44 => 0x3FF18AE2#32
  | 45 => 0xBF00E798#32
  | 46 => 0x3EADC5E8#32
  | 47 => 0xBF1E83B4#32
  | 48 => 0xBF873336#32
  | 49 => 0x3F9A111A#32
  | 50 => 0x4044C6AA#32
  | 51 => 0xBEF29408#32
  | 52 => 0x3F213C0C#32
  | 53 => 0x3FC24E78#32
  | 54 => 0x3F9E071C#32
  | 55 => 0x3F25F630#32
  | 56 => 0xBF33E5F8#32
  | 57 => 0x3E877FEB#32
  | 58 => 0xBE8F7B8B#32
  | 59 => 0x3ECB33F2#32
  | 60 => 0x3FFF8CA3#32
  | 61 => 0x40249632#32
  | 62 => 0x3F03072A#32
  | 63 => 0x3FFF2679#32
  | 64 => 0x3F1DC36C#32
  | 65 => 0x40185F1E#32
  | 66 => 0x3FF6AA09#32
  | 67 => 0x3FB3F9E9#32
  | 68 => 0xBE930D8A#32
  | 69 => 0x3FCCE2B8#32
  | 70 => 0x3F9715EF#32
  | 71 => 0xBFDD6EEA#32
  | 72 => 0x3EC0762E#32
  | 73 => 0x3D521AF8#32
  | 74 => 0x3C9B2373#32
  | 75 => 0xBF013743#32
  | 76 => 0x3E9A3286#32
  | 77 => 0x3F9674E9#32
  | 78 => 0x3F5AB058#32
  | 79 => 0x40614221#32
  | 80 => 0x3EC10DBB#32
  | 81 => 0xBDF0C18E#32
  | 82 => 0xBF579959#32
  | 83 => 0xBE32411A#32
  | 84 => 0xBD182C11#32
  | 85 => 0x3FD566AA#32
  | 86 => 0xBFA26ACF#32
  | 87 => 0xBF822F76#32
  | 88 => 0x3E96297C#32
  | 89 => 0xBE48F7A4#32
  | 90 => 0x3F6276C2#32
  | 91 => 0xBE5843C8#32
  | 92 => 0xBE2916D0#32
  | 93 => 0xBF00AB02#32
  | 94 => 0xBF23AB83#32
  | 95 => 0x3FA85581#32
  | 96 => 0x3F41C33F#32
  | 97 => 0x4017CAB3#32
  | 98 => 0xBF135AC8#32
  | 99 => 0x3F9CC6C0#32
  | 100 => 0x3FECF8AB#32
  | 101 => 0xBDB291F6#32
  | 102 => 0x3F360E30#32
  | 103 => 0x3F05CAB2#32
  | 104 => 0x4084359C#32
  | 105 => 0x3F413D2A#32
  | 106 => 0xBF79AD30#32
  | 107 => 0x40770103#32
  | 108 => 0x3D932F74#32
  | 109 => 0x3F899529#32
  | 110 => 0xBF1CD1CF#32
  | 111 => 0x3F48CFD7#32
  | 112 => 0xBF76F16D#32
  | 113 => 0xBDEF2D87#32
  | 114 => 0x40160746#32
  | 115 => 0x3ECD1814#32
  | 116 => 0x3EBB90D0#32
  | 117 => 0xBE05E1A4#32
  | 118 => 0x3FCF81A7#32
  | 119 => 0x3FA0EC24#32
  | 120 => 0x40BA84C5#32
  | 121 => 0xBEBA4217#32
  | 122 => 0x3F8BC205#32
  | 123 => 0x3E8F2930#32
  | 124 => 0x3F4C7657#32
  | 125 => 0x3EE39F6A#32
  | 126 => 0x3EB759B1#32
  | 127 => 0x3F82AAE9#32
  | _ => 0#32

noncomputable abbrev lit0t0_891 (i : Nat) : BitVec 32 := match i % 128 with
  | 0 => 0xBCD6C2FF#32
  | 1 => 0xBF052167#32
  | 2 => 0x3F940026#32
  | 3 => 0x3E9B94F6#32
  | 4 => 0x3FF88AA0#32
  | 5 => 0xBE616F45#32
  | 6 => 0x3FF32B29#32
  | 7 => 0x3EDA98C9#32
  | 8 => 0x3F5B16C3#32
  | 9 => 0xBF6528B1#32
  | 10 => 0xBE970433#32
  | 11 => 0x3F9F5CA6#32
  | 12 => 0xBECFF79A#32
  | 13 => 0x3DE6CA35#32
  | 14 => 0xBEC15FC7#32
  | 15 => 0x3F3A74E6#32
  | 16 => 0x3F09B42C#32
  | 17 => 0xBECD94C4#32
  | 18 => 0xBF7C1588#32
  | 19 => 0xBCE0B25B#32
  | 20 => 0x3F837280#32
  | 21 => 0xBE449A27#32
  | 22 => 0x3FACDA13#32
  | 23 => 0xBEF55FE8#32
  | 24 => 0xBFBFF962#32
  | 25 => 0xBF01E048#32
  | 26 => 0x3E16FE5A#32
  | 27 => 0xBF8263AC#32
  | 28 => 0xBEB4AF57#32
  | 29 => 0xBD7FF939#32
  | 30 => 0x3F69E763#32
  | 31 => 0x3E3A0FC6#32
  | 32 => 0x3EC7887F#32
  | 33 => 0x3DDB03FA#32
  | 34 => 0x3D10E71B#32
  | 35 => 0xBEF029A0#32
  | 36 => 0x400A8E8E#32
  | 37 => 0x3F8106D0#32
  | 38 => 0x3FA12396#32
  | 39 => 0x3FA65C59#32
  | 40 => 0x3E94628D#32
  | 41 => 0x3C0799C2#32
  | 42 => 0xBEEC71B3#32
  | 43 => 0x3E5434E1#32
  | 44 => 0xBF63FA10#32
  | 45 => 0xBEFB6B76#32
  | 46 => 0x3ED8D5C4#32
  | 47 => 0xBF381145#32
  | 48 => 0x3FA2AE20#32
  | 49 => 0x3DB75E0B#32
  | 50 => 0x3FEC6EA8#32
  | 51 => 0x3F847793#32
  | 52 => 0x402506A1#32
  | 53 => 0x3EC02DAB#32
  | 54 => 0x3F4BE8BE#32
  | 55 => 0x3FA682DE#32
  | 56 => 0x3E3513BA#32
  | 57 => 0x3FDE852E#32
  | 58 => 0x3FD568F1#32
  | 59 => 0x3F0B661A#32
  | 60 => 0x3E1F1891#32
  | 61 => 0xBF63565A#32
  | 62 => 0xBF952A99#32
  | 63 => 0x3F414A84#32
  | 64 => 0x3BF2D0BE#32
  | 65 => 0xBE8E2606#32
  | 66 => 0x3F5BA062#32
  | 67 => 0x3FAFCA91#32
  | 68 => 0xBEA314EC#32
  | 69 => 0x3F2EACAA#32
  | 70 => 0xBEA0E3BB#32
  | 71 => 0xBF87163A#32
  | 72 => 0x3D3C15E7#32
  | 73 => 0x3F55B0B1#32
  | 74 => 0x4005429F#32
  | 75 => 0x3F10094B#32
  | 76 => 0x40627633#32
  | 77 => 0x3F075CC9#32
  | 78 => 0x3F98EF99#32
  | 79 => 0xBFA7386A#32
  | 80 => 0xBCA0269F#32
  | 81 => 0xBF9BEB64#32
  | 82 => 0x3D6A9CB6#32
  | 83 => 0xBE34C66B#32
  | 84 => 0x3EB553F5#32
  | 85 => 0x3FAACFE0#32
  | 86 => 0x403C0160#32
  | 87 => 0x3F43E985#32
  | 88 => 0xBF9388C1#32
  | 89 => 0x3FB99B88#32
  | 90 => 0x3F483042#32
  | 91 => 0xBF11EB2E#32
  | 92 => 0xBF3740AF#32
  | 93 => 0xBDA05FB8#32
  | 94 => 0x3EC8944E#32
  | 95 => 0x3F518D1D#32
  | 96 => 0x3D9F7D32#32
  | 97 => 0xBF6728D8#32
  | 98 => 0x3F01975A#32
  | 99 => 0x3FD84AA6#32
  | 100 => 0xBDFE7902#32
  | 101 => 0x3FA33F5D#32
  | 102 => 0x3F19EB9A#32
  | 103 => 0x3E91BCD4#32
  | 104 => 0x40666899#32
  | 105 => 0xBB77F1C7#32
  | 106 => 0x3F417C06#32
  | 107 => 0x3F253F50#32
  | 108 => 0x3F5DF567#32
  | 109 => 0x3F1A27D3#32
  | 110 => 0xBDACD0AE#32
  | 111 => 0xBCB01F17#32
  | 112 => 0x40229396#32
  | 113 => 0x3FCBC4F6#32
  | 114 => 0xBEB866DD#32
  | 115 => 0x3E728E73#32
  | 116 => 0x4010C160#32
  | 117 => 0x3FC35F8B#32
  | 118 => 0x3FA576AE#32
  | 119 => 0x3F30976F#32
  | 120 => 0xBD9467FD#32
  | 121 => 0x3FABC97D#32
  | 122 => 0x3EAC369F#32
  | 123 => 0x3F0EBFEA#32
  | 124 => 0x3E836B5A#32
  | 125 => 0x3DD00DF6#32
  | 126 => 0x3EEECFC8#32
  | 127 => 0x3F4C6C0B#32
  | _ => 0#32

noncomputable abbrev lit0t0_892 (i : Nat) : BitVec 32 := match i % 128 with
  | 0 => 0x40468A0F#32
  | 1 => 0xBBB64201#32
  | 2 => 0xBF6CDF06#32
  | 3 => 0xBF57B0B5#32
  | 4 => 0x4022E1BA#32
  | 5 => 0x3FE528B0#32
  | 6 => 0x4020CFC7#32
  | 7 => 0x3FC2C9F3#32
  | 8 => 0xBE8A3785#32
  | 9 => 0x3FB4DA2A#32
  | 10 => 0x3FB0EECA#32
  | 11 => 0x40860494#32
  | 12 => 0x3E0CFCE3#32
  | 13 => 0x3F30CBD6#32
  | 14 => 0xBFCE5851#32
  | 15 => 0xBF01758C#32
  | 16 => 0xBF71F0B1#32
  | 17 => 0x3CCB2503#32
  | 18 => 0xBEC91BF4#32
  | 19 => 0x3FCFF12D#32
  | 20 => 0xBE2B7BC9#32
  | 21 => 0xBEBDC89A#32
  | 22 => 0xBF6E5FEA#32
  | 23 => 0x3FB4DDEE#32
  | 24 => 0x3FCC0E55#32
  | 25 => 0x3F8F5172#32
  | 26 => 0x3F16E527#32
  | 27 => 0x4036917F#32
  | 28 => 0xBE9E2081#32
  | 29 => 0xBF16545E#32
  | 30 => 0x40491ECD#32
  | 31 => 0x3FD535BD#32
  | 32 => 0x3EB2DDD5#32
  | 33 => 0xBEAD3902#32
  | 34 => 0x407A3F7D#32
  | 35 => 0x3F77D46A#32
  | 36 => 0x3F25E6F0#32
  | 37 => 0x3ED5C88E#32
  | 38 => 0xBFB95109#32
  | 39 => 0x3F460C1A#32
  | 40 => 0xBF663872#32
  | 41 => 0x3F72B46C#32
  | 42 => 0x3E610C4A#32
  | 43 => 0xBE445CBD#32
  | 44 => 0x3F832F6C#32
  | 45 => 0x3F22BDC0#32
  | 46 => 0xBF697EF6#32
  | 47 => 0x3EF2EEC6#32
  | 48 => 0xBF169B65#32
  | 49 => 0x3F1ADF34#32
  | 50 => 0xBEFC8520#32
  | 51 => 0x3E84CB88#32
  | 52 => 0x40288B48#32
  | 53 => 0x3CFA6606#32
  | 54 => 0x3F98B478#32
  | 55 => 0x3F3B1B7F#32
  | 56 => 0x3EAB6860#32
  | 57 => 0xBCF1D2B8#32
  | 58 => 0x3FABC3B0#32
  | 59 => 0x3F4E7D01#32
  | 60 => 0x3F1FAD72#32
  | 61 => 0x3F191912#32
  | 62 => 0x3F7CBB1A#32
  | 63 => 0x401CB9B1#32
  | 64 => 0xBF7C3D7C#32
  | 65 => 0xBC2B63B6#32
  | 66 => 0x3FFD6CCB#32
  | 67 => 0xBF1749D8#32
  | 68 => 0x3F897A0F#32
  | 69 => 0x3E801927#32
  | 70 => 0x3FA20FB9#32
  | 71 => 0x3FD4C8E6#32
  | 72 => 0x3FF58D16#32
  | 73 => 0xBED36E78#32
  | 74 => 0xBEC178C0#32
  | 75 => 0xBEEE2D68#32
  | 76 => 0x3F60ECE1#32
  | 77 => 0x3E9B98AE#32
  | 78 => 0x3F32D550#32
  | 79 => 0x3E113958#32
  | 80 => 0xBE7E48DB#32
  | 81 => 0xBEC0043C#32
  | 82 => 0x3F5287FB#32
  | 83 => 0xBF1F9D93#32
  | 84 => 0xBFEA30F5#32
  | 85 => 0x3DAA6EC0#32
  | 86 => 0xBE47ED8C#32
  | 87 => 0xBF7CC552#32
  | 88 => 0xBEC70A45#32
  | 89 => 0xBF81EB68#32
  | 90 => 0x4039771C#32
  | 91 => 0xBF348B7C#32
  | 92 => 0x3F13346E#32
  | 93 => 0xBE55EEE6#32
  | 94 => 0x3FD244E6#32
  | 95 => 0x3F9F6840#32
  | 96 => 0xBC913612#32
  | 97 => 0x3F815F6C#32
  | 98 => 0x3FCEA202#32
  | 99 => 0x3F09712E#32
  | 100 => 0x3FD264D0#32
  | 101 => 0x4007F527#32
  | 102 => 0x3EF06738#32
  | 103 => 0xBEFFEF88#32
  | 104 => 0x401EDD6F#32
  | 105 => 0xBFD5C1AF#32
  | 106 => 0x4028E968#32
  | 107 => 0x3F84BB26#32
  | 108 => 0x4012DA49#32
  | 109 => 0xBF0ECAA3#32
  | 110 => 0xBF4636CC#32
  | 111 => 0xBEA694D8#32
  | 112 => 0xBF1BC23A#32
  | 113 => 0x404F495E#32
  | 114 => 0xBE2ABF6B#32
  | 115 => 0x3F92477E#32
  | 116 => 0x3C4DC0DB#32
  | 117 => 0x4052F60E#32
  | 118 => 0xBFA2D927#32
  | 119 => 0x3EC8B14C#32
  | 120 => 0x408A8639#32
  | 121 => 0x3F174009#32
  | 122 => 0xBF791D70#32
  | 123 => 0xBF55715F#32
  | 124 => 0x40A4FFCB#32
  | 125 => 0xBF0D967A#32
  | 126 => 0xBFCDE596#32
  | 127 => 0x3E984BFB#32
  | _ => 0#32

noncomputable abbrev lit0t0_893 (i : Nat) : BitVec 32 := match i % 128 with
  | 0 => 0x3E7A3CE6#32
  | 1 => 0xBF33C3EF#32
  | 2 => 0xBF01EC70#32
  | 3 => 0xBF2E5F2D#32
  | 4 => 0x3FDA825F#32
  | 5 => 0x3FF6A4F2#32
  | 6 => 0x3F42BD94#32
  | 7 => 0xBEE8ED82#32
  | 8 => 0x3F0AA950#32
  | 9 => 0xBF502947#32
  | 10 => 0xBEED5B46#32
  | 11 => 0x404F33FC#32
  | 12 => 0xBEB1A400#32
  | 13 => 0x400D8DEC#32
  | 14 => 0x408B6B4D#32
  | 15 => 0x3E6F3795#32
  | 16 => 0xBE6CFFF0#32
  | 17 => 0xBEF5F517#32
  | 18 => 0x402092FE#32
  | 19 => 0x3F355184#32
  | 20 => 0xBE3BE3C1#32
  | 21 => 0x40830E42#32
  | 22 => 0xBEA64547#32
  | 23 => 0x3F0AE1F5#32
  | 24 => 0x40140352#32
  | 25 => 0x3E373211#32
  | 26 => 0x3FDD31C5#32
  | 27 => 0xBFB32B8F#32
  | 28 => 0xBF658598#32
  | 29 => 0x3FAE0EDB#32
  | 30 => 0x4019F8CE#32
  | 31 => 0xBE8FCF81#32
  | 32 => 0xBF1BEB86#32
  | 33 => 0x3F4649A1#32
  | 34 => 0xB9C7564D#32
  | 35 => 0x3F9512A5#32
  | 36 => 0x3F3D79A4#32
  | 37 => 0x3E06A06C#32
  | 38 => 0xBE112EE4#32
  | 39 => 0x3F24253A#32
  | 40 => 0xBEAFB9C4#32
  | 41 => 0xBEB4E1B1#32
  | 42 => 0xBEA1FF5A#32
  | 43 => 0x3FB8436D#32
  | 44 => 0x3DE2D3C9#32
  | 45 => 0x3F750B26#32
  | 46 => 0x3DD68A2D#32
  | 47 => 0xBFB010BA#32
  | 48 => 0x3EF558C8#32
  | 49 => 0xBF1A7D51#32
  | 50 => 0x3ED64BF3#32
  | 51 => 0x3FE42A97#32
  | 52 => 0x3F397586#32
  | 53 => 0x3E862E2C#32
  | 54 => 0xBF3927C3#32
  | 55 => 0x3F2FA10D#32
  | 56 => 0x3FC54121#32
  | 57 => 0x3F926C98#32
  | 58 => 0xBF98053B#32
  | 59 => 0x3FB47DF7#32
  | 60 => 0xBF39C264#32
  | 61 => 0x3DC71F55#32
  | 62 => 0x3F3A0F06#32
  | 63 => 0xBEBB468E#32
  | 64 => 0x405BFB13#32
  | 65 => 0xBE1B706A#32
  | 66 => 0x3F712587#32
  | 67 => 0x400DC6C4#32
  | 68 => 0x3F48C468#32
  | 69 => 0xBF4955A7#32
  | 70 => 0xBEC7B7BE#32
  | 71 => 0x3E83C238#32
  | 72 => 0x3F8CA06B#32
  | 73 => 0x40402A26#32
  | 74 => 0x3F0E85BA#32
  | 75 => 0x40D85BC8#32
  | 76 => 0x3F8146DA#32
  | 77 => 0x3FD4B207#32
  | 78 => 0x3EAA816F#32
  | 79 => 0xBEBA4977#32
  | 80 => 0x3F15EC7C#32
  | 81 => 0x3D3B6CD4#32
  | 82 => 0xBEBC8619#32
  | 83 => 0x3FBB59BC#32
  | 84 => 0xBE5891B8#32
  | 85 => 0xBF6B6066#32
  | 86 => 0xBF16EAA9#32
  | 87 => 0xBE8F955C#32
  | 88 => 0x3FE37CFD#32
  | 89 => 0x4081E188#32
  | 90 => 0xBF0AC913#32
  | 91 => 0x3F659B2A#32
  | 92 => 0x3F2BC83A#32
  | 93 => 0x4095E33C#32
  | 94 => 0x40275FAD#32
  | 95 => 0xBE046AFB#32
  | 96 => 0x3F874229#32
  | 97 => 0x3FD11F59#32
  | 98 => 0x4013C5B1#32
  | 99 => 0x3EF0A0B4#32
  | 100 => 0x3F9641A9#32
  | 101 => 0x3F892A16#32
  | 102 => 0x3E8C2CE7#32
  | 103 => 0x3F6363FA#32
  | 104 => 0xBEFC2E96#32
  | 105 => 0xBF0A0E0B#32
  | 106 => 0x3F0434C2#32
  | 107 => 0x3E719CA1#32
  | 108 => 0x3E3DD23B#32
  | 109 => 0xBE650149#32
  | 110 => 0x3FCF9F2A#32
  | 111 => 0x3F7B01B4#32
  | 112 => 0x3E10246F#32
  | 113 => 0xBF3EDC7F#32
  | 114 => 0xBCDD0C1E#32
  | 115 => 0xBC93D00E#32
  | 116 => 0x3E9B47F2#32
  | 117 => 0x3F7FC7BA#32
  | 118 => 0xBE81E7BB#32
  | 119 => 0x3FBA6AC3#32
  | 120 => 0xBDF1D435#32
  | 121 => 0xBEC3A1DA#32
  | 122 => 0x3FD65673#32
  | 123 => 0x3F70FCE0#32
  | 124 => 0xBF6D7586#32
  | 125 => 0x40169676#32
  | 126 => 0x3F9E0385#32
  | 127 => 0x3D9208A6#32
  | _ => 0#32

noncomputable abbrev lit0t0_894 (i : Nat) : BitVec 32 := match i % 128 with
  | 0 => 0x3FB0C301#32
  | 1 => 0x401882A5#32
  | 2 => 0xBF0261C3#32
  | 3 => 0x408D456D#32
  | 4 => 0x3F0B3E29#32
  | 5 => 0x3F3C54A7#32
  | 6 => 0x40F93E15#32
  | 7 => 0x3F805227#32
  | 8 => 0x3F6EC1E9#32
  | 9 => 0xBE6BEACC#32
  | 10 => 0xBF43125E#32
  | 11 => 0x3FDCE928#32
  | 12 => 0x3DE423A9#32
  | 13 => 0x3EA7E873#32
  | 14 => 0x3FC82BD1#32
  | 15 => 0x3FF17A4D#32
  | 16 => 0x404B9BBE#32
  | 17 => 0x3D89D9B8#32
  | 18 => 0xBE9CDFFE#32
  | 19 => 0x3F341695#32
  | 20 => 0x3F8B76A8#32
  | 21 => 0xBF1CFD18#32
  | 22 => 0x3E12E08D#32
  | 23 => 0xBF528B76#32
  | 24 => 0xBF09803D#32
  | 25 => 0xBF451DFB#32
  | 26 => 0xBEE48915#32
  | 27 => 0x3F8D7232#32
  | 28 => 0x40224A52#32
  | 29 => 0xBF21B9CC#32
  | 30 => 0xBE4A92E9#32
  | 31 => 0x40AA41E2#32
  | 32 => 0x3FD7E8B0#32
  | 33 => 0xBF0E81A8#32
  | 34 => 0x3F677B3F#32
  | 35 => 0xBE126B5F#32
  | 36 => 0x3F556748#32
  | 37 => 0x3ED187EA#32
  | 38 => 0x3FE07E4F#32
  | 39 => 0x402988A8#32
  | 40 => 0xBF3E652B#32
  | 41 => 0x4065D7AD#32
  | 42 => 0xBF51E8AB#32
  | 43 => 0xBE6DC941#32
  | 44 => 0x3E8B0AF7#32
  | 45 => 0xBF9D0A69#32
  | 46 => 0xBF37F740#32
  | 47 => 0x4038A519#32
  | 48 => 0x3F8BDC20#32
  | 49 => 0xBFA5D5A0#32
  | 50 => 0x3E6C82BB#32
  | 51 => 0xBF576870#32
  | 52 => 0x3EEACDD8#32
  | 53 => 0x3FFCAB6D#32
  | 54 => 0x3EC2A66C#32
  | 55 => 0xBF894C54#32
  | 56 => 0x3FBED2A6#32
  | 57 => 0x3E571325#32
  | 58 => 0x3FE9B13A#32
  | 59 => 0x3F268665#32
  | 60 => 0xBF788CE0#32
  | 61 => 0xBF428C64#32
  | 62 => 0xBF85E08E#32
  | 63 => 0x3DFE709E#32
  | 64 => 0xBDD3255F#32
  | 65 => 0x3F174ABC#32
  | 66 => 0x401A5C11#32
  | 67 => 0x3EAFA818#32
  | 68 => 0xBF6882FF#32
  | 69 => 0xBEB0FAEA#32
  | 70 => 0xBFB2AD9E#32
  | 71 => 0x407D41C2#32
  | 72 => 0x3FD71B26#32
  | 73 => 0xBEB637C6#32
  | 74 => 0xBF7B845D#32
  | 75 => 0x3DF2F64D#32
  | 76 => 0x4054BE5C#32
  | 77 => 0x3EFB71D6#32
  | 78 => 0x3F42F20A#32
  | 79 => 0xBECE8A53#32
  | 80 => 0xBE7197CC#32
  | 81 => 0x405C3FD6#32
  | 82 => 0xBFD61A52#32
  | 83 => 0x3DDDB7BC#32
  | 84 => 0x3FC452ED#32
  | 85 => 0x3EB8882B#32
  | 86 => 0x401CF9D8#32
  | 87 => 0xBF0A2554#32
  | 88 => 0x3F74617F#32
  | 89 => 0x3E8929F5#32
  | 90 => 0x3F1C7BD5#32
  | 91 => 0x3F7FC2BC#32
  | 92 => 0xBE77B6E6#32
  | 93 => 0xBF786A6D#32
  | 94 => 0x3F0216B6#32
  | 95 => 0x3FD5368F#32
  | 96 => 0x3FA33C62#32
  | 97 => 0xBECF8BE1#32
  | 98 => 0x3FFD8DB4#32
  | 99 => 0xBD25A6CF#32
  | 100 => 0xBFB47E70#32
  | 101 => 0xBFB72F2E#32
  | 102 => 0xBF91D786#32
  | 103 => 0xBEB34920#32
  | 104 => 0x3E940D7B#32
  | 105 => 0x3E8655CB#32
  | 106 => 0xBF87AA84#32
  | 107 => 0x404C5548#32
  | 108 => 0x3E39C6DF#32
  | 109 => 0x3F37F433#32
  | 110 => 0xBF36DA7E#32
  | 111 => 0xBF49361B#32
  | 112 => 0x3FE0B9F2#32
  | 113 => 0x3FA50B2F#32
  | 114 => 0xBE2A1E36#32
  | 115 => 0xBEC159A7#32
  | 116 => 0x3EE8AC6F#32
  | 117 => 0xBD814E57#32
  | 118 => 0x3F344E2B#32
  | 119 => 0xBDBB507B#32
  | 120 => 0x3E066A4E#32
  | 121 => 0xBF351F36#32
  | 122 => 0x3F0E2CF1#32
  | 123 => 0x3F1012EC#32
  | 124 => 0x3D751041#32
  | 125 => 0x3CF7EB83#32
  | 126 => 0xBE8E8E39#32
  | 127 => 0xBE9FF594#32
  | _ => 0#32

noncomputable abbrev lit0t0_895 (i : Nat) : BitVec 32 := match i % 128 with
  | 0 => 0xBF4220AD#32
  | 1 => 0x3F88E9E7#32
  | 2 => 0xBD1DC54E#32
  | 3 => 0x3F05F98B#32
  | 4 => 0xBE25F86A#32
  | 5 => 0xBED3DB36#32
  | 6 => 0xBF223B0D#32
  | 7 => 0x3F403A3C#32
  | 8 => 0x3F9128B6#32
  | 9 => 0x3FCB3E44#32
  | 10 => 0x3CA933E6#32
  | 11 => 0x3DCC0258#32
  | 12 => 0x3EA34D1D#32
  | 13 => 0xBD94B55B#32
  | 14 => 0xBEA24041#32
  | 15 => 0x3F432186#32
  | 16 => 0x3F853310#32
  | 17 => 0x4085009A#32
  | 18 => 0x3F99060C#32
  | 19 => 0xBF900960#32
  | 20 => 0x3F2F52A0#32
  | 21 => 0x3FEBCA80#32
  | 22 => 0x3FA5F9AD#32
  | 23 => 0x3F38BA5C#32
  | 24 => 0x3F9E60E8#32
  | 25 => 0x3F46D234#32
  | 26 => 0xBE5BAADF#32
  | 27 => 0x3D6CE0FB#32
  | 28 => 0x3FB54AC9#32
  | 29 => 0x4006B47D#32
  | 30 => 0x3F2122B0#32
  | 31 => 0xBF09FABB#32
  | 32 => 0x408C6215#32
  | 33 => 0x3E827808#32
  | 34 => 0x3ECBE59D#32
  | 35 => 0xBF7479D2#32
  | 36 => 0xBF0D5A9F#32
  | 37 => 0x3EE33950#32
  | 38 => 0x3F13A8A2#32
  | 39 => 0x3ECDC9A4#32
  | 40 => 0xBF46E997#32
  | 41 => 0x3FBA1B2D#32
  | 42 => 0x403C1FD5#32
  | 43 => 0xBF778438#32
  | 44 => 0x409AFF2A#32
  | 45 => 0x3E35277A#32
  | 46 => 0x3EB51CB5#32
  | 47 => 0xBF82C360#32
  | 48 => 0x3FABCF4B#32
  | 49 => 0x3FD7367F#32
  | 50 => 0x3F8AA82C#32
  | 51 => 0x4062DCDB#32
  | 52 => 0x3F56AB3C#32
  | 53 => 0xBF725F0F#32
  | 54 => 0x3F0B313D#32
  | 55 => 0x3E70AC15#32
  | 56 => 0x3F6DB0BE#32
  | 57 => 0xBDFD59CB#32
  | 58 => 0x40CDE4CC#32
  | 59 => 0x3F33C8EC#32
  | 60 => 0xBF8B9B44#32
  | 61 => 0x3E3822C8#32
  | 62 => 0x3FAAC4E9#32
  | 63 => 0xBE1B0952#32
  | 64 => 0xBEDCDD29#32
  | 65 => 0xBF2AB42C#32
  | 66 => 0x403F2B67#32
  | 67 => 0x3EA7203F#32
  | 68 => 0xBF27719F#32
  | 69 => 0xBFD09367#32
  | 70 => 0x3EE62B85#32
  | 71 => 0xBFB2E271#32
  | 72 => 0x3E34A366#32
  | 73 => 0x3FC8E43A#32
  | 74 => 0xBDD74C31#32
  | 75 => 0xBE92FD51#32
  | 76 => 0xBEBE8B17#32
  | 77 => 0x3FF5AC46#32
  | 78 => 0x3F2AB773#32
  | 79 => 0xBF9F0D5A#32
  | 80 => 0x3F02659B#32
  | 81 => 0x3F98FEB5#32
  | 82 => 0x3F7707B1#32
  | 83 => 0xBF7BD514#32
  | 84 => 0xBF14FD32#32
  | 85 => 0x3FAF1894#32
  | 86 => 0xBE4BAF30#32
  | 87 => 0x3E978B82#32
  | 88 => 0x3FDBC176#32
  | 89 => 0x3E5B32F1#32
  | 90 => 0x3FC9A90C#32
  | 91 => 0xBF602AEF#32
  | 92 => 0x3EE8A39C#32
  | 93 => 0x3E2162F2#32
  | 94 => 0x40374F10#32
  | 95 => 0x3F90607D#32
  | 96 => 0x4012D7F3#32
  | 97 => 0x401E873D#32
  | 98 => 0x3E98B477#32
  | 99 => 0xBF79D1D8#32
  | 100 => 0xBEF71030#32
  | 101 => 0x3EEF52C6#32
  | 102 => 0x3EAA5ADD#32
  | 103 => 0x3F8643FA#32
  | 104 => 0x3FCE9006#32
  | 105 => 0xBEA7A8A4#32
  | 106 => 0x3F81F8BC#32
  | 107 => 0x3E3CE072#32
  | 108 => 0xBF568663#32
  | 109 => 0x3F09EE17#32
  | 110 => 0xBE963470#32
  | 111 => 0x4087F974#32
  | 112 => 0x3DD38CE1#32
  | 113 => 0x408517B0#32
  | 114 => 0xBE478799#32
  | 115 => 0x3EE32D90#32
  | 116 => 0xBE2D6AA4#32
  | 117 => 0x40054E6D#32
  | 118 => 0xBF6B72CD#32
  | 119 => 0xBEC62EE9#32
  | 120 => 0x3F24781F#32
  | 121 => 0xBE95115E#32
  | 122 => 0x3EBD19D7#32
  | 123 => 0x3EADC73F#32
  | 124 => 0x3F69D46C#32
  | 125 => 0xBEAB3CF1#32
  | 126 => 0x3F10631C#32
  | 127 => 0xBF87249E#32
  | _ => 0#32

noncomputable abbrev lit0t0_896 (i : Nat) : BitVec 32 := match i % 128 with
  | 0 => 0xBF93A830#32
  | 1 => 0xBED52F19#32
  | 2 => 0x4019FA03#32
  | 3 => 0x3FD582A4#32
  | 4 => 0x3FAE4390#32
  | 5 => 0xBE3E91EB#32
  | 6 => 0x3ED99B80#32
  | 7 => 0xBCC0A934#32
  | 8 => 0xBE149259#32
  | 9 => 0xBE125ADF#32
  | 10 => 0xBF5618ED#32
  | 11 => 0xBE1FF867#32
  | 12 => 0x40304E9B#32
  | 13 => 0x400D0432#32
  | 14 => 0xBE51620C#32
  | 15 => 0x3F39D865#32
  | 16 => 0x3F3699D7#32
  | 17 => 0x3F6075F4#32
  | 18 => 0x401489E9#32
  | 19 => 0xBF04AD54#32
  | 20 => 0x3E21203E#32
  | 21 => 0xBF055E01#32
  | 22 => 0x3F21BE8B#32
  | 23 => 0x3F80BB8E#32
  | 24 => 0x40160C40#32
  | 25 => 0x3E90E205#32
  | 26 => 0x3FB36012#32
  | 27 => 0x3FEAA9F4#32
  | 28 => 0xBE82DF25#32
  | 29 => 0x3EB0DEFD#32
  | 30 => 0xBF369C4C#32
  | 31 => 0x3EB55210#32
  | 32 => 0x3FDE3F7D#32
  | 33 => 0xBF590712#32
  | 34 => 0x3ED500AC#32
  | 35 => 0x408ABF8C#32
  | 36 => 0xBE70CC5C#32
  | 37 => 0x3DA782A1#32
  | 38 => 0x3EBC72F5#32
  | 39 => 0x3F87E224#32
  | 40 => 0x3FE067FD#32
  | 41 => 0x400DC9D2#32
  | 42 => 0xBFA7D8E6#32
  | 43 => 0xBF901269#32
  | 44 => 0xBF34B2AE#32
  | 45 => 0xBDEA2655#32
  | 46 => 0x407CEEDD#32
  | 47 => 0x4085FC28#32
  | 48 => 0xBD761304#32
  | 49 => 0x404B97AD#32
  | 50 => 0x3F3D81F4#32
  | 51 => 0x3FB569E3#32
  | 52 => 0x3F73AB2A#32
  | 53 => 0xBF96FC61#32
  | 54 => 0x3E9A3BDB#32
  | 55 => 0x3E02F85E#32
  | 56 => 0x3F53CA6A#32
  | 57 => 0xBF58C0A4#32
  | 58 => 0x3F0EAF0F#32
  | 59 => 0xBF79EBA8#32
  | 60 => 0x406663F8#32
  | 61 => 0xBF83648D#32
  | 62 => 0x3FF0E186#32
  | 63 => 0x3E9DEEEC#32
  | 64 => 0x3F811CCA#32
  | 65 => 0xBF446ADE#32
  | 66 => 0xBF229E53#32
  | 67 => 0x3F97B89D#32
  | 68 => 0x3F4E6059#32
  | 69 => 0x40270DFF#32
  | 70 => 0x3F376450#32
  | 71 => 0x3F8EEA2F#32
  | 72 => 0x3FB954E7#32
  | 73 => 0x3F8F9FCD#32
  | 74 => 0x3FDE47AA#32
  | 75 => 0x3EDC1868#32
  | 76 => 0x3F40C375#32
  | 77 => 0xBE7D17EC#32
  | 78 => 0x3F1AB918#32
  | 79 => 0x3F34B2C6#32
  | 80 => 0xBE88EA21#32
  | 81 => 0x3FBBA32A#32
  | 82 => 0x3FA24414#32
  | 83 => 0xBEDADA00#32
  | 84 => 0x3F7E925E#32
  | 85 => 0x3F8FE6CC#32
  | 86 => 0x3F0A1C45#32
  | 87 => 0xBF5C42B5#32
  | 88 => 0xBE5056E0#32
  | 89 => 0x3FD8F230#32
  | 90 => 0x3FD70259#32
  | 91 => 0x3FA9C99F#32
  | 92 => 0x3ECD2658#32
  | 93 => 0xBF06952B#32
  | 94 => 0x3F325044#32
  | 95 => 0x3E1928CF#32
  | 96 => 0x403DB849#32
  | 97 => 0x402D099D#32
  | 98 => 0x3F440C35#32
  | 99 => 0x3F70C648#32
  | 100 => 0x3E71230D#32
  | 101 => 0x3FA2A0BA#32
  | 102 => 0x3F19061D#32
  | 103 => 0x3F295907#32
  | 104 => 0x3F599B9C#32
  | 105 => 0x40121F94#32
  | 106 => 0x3DAFF35C#32
  | 107 => 0xBE5B5C29#32
  | 108 => 0x3F32EA07#32
  | 109 => 0xBE08D934#32
  | 110 => 0x4098112B#32
  | 111 => 0xBDA62117#32
  | 112 => 0xBEBEDF6F#32
  | 113 => 0x3F54DD6C#32
  | 114 => 0x3F3390C0#32
  | 115 => 0x409D1D30#32
  | 116 => 0xBE244921#32
  | 117 => 0x3F8C9B62#32
  | 118 => 0xBEB592BF#32
  | 119 => 0xBF28B792#32
  | 120 => 0x3F7742EF#32
  | 121 => 0xBE8A90DF#32
  | 122 => 0x3DCD8BD0#32
  | 123 => 0xBF671DE0#32
  | 124 => 0xBDE806CA#32
  | 125 => 0x3E6167F3#32
  | 126 => 0xBF451DAB#32
  | 127 => 0x3FAF79CF#32
  | _ => 0#32

noncomputable abbrev lit0t0_897 (i : Nat) : BitVec 32 := match i % 128 with
  | 0 => 0x3E767FE5#32
  | 1 => 0xBF6DEFC2#32
  | 2 => 0x3EAD8EAE#32
  | 3 => 0x40409F9A#32
  | 4 => 0x3FB0C3F7#32
  | 5 => 0x3ED94F6A#32
  | 6 => 0xBED0BAA8#32
  | 7 => 0xBF389820#32
  | 8 => 0x40770A4A#32
  | 9 => 0x3EF8C939#32
  | 10 => 0x3E4857CD#32
  | 11 => 0xBF98C875#32
  | 12 => 0xBF3B30CB#32
  | 13 => 0xBF932936#32
  | 14 => 0xBF4D3656#32
  | 15 => 0xBF36DC08#32
  | 16 => 0x3F215B6D#32
  | 17 => 0xBF1458A6#32
  | 18 => 0xBE33307C#32
  | 19 => 0x3DC6B8EB#32
  | 20 => 0x3F0E7080#32
  | 21 => 0x3E8A508E#32
  | 22 => 0xBFA03DF6#32
  | 23 => 0xBF266EB3#32
  | 24 => 0x3FDCE101#32
  | 25 => 0xBF4871A6#32
  | 26 => 0x3FDCA3F9#32
  | 27 => 0x3E87B43D#32
  | 28 => 0x3FBD9E3A#32
  | 29 => 0x3FEC420C#32
  | 30 => 0x3F1867C1#32
  | 31 => 0x3E04BA0E#32
  | 32 => 0xBE23A797#32
  | 33 => 0x3F0CB91B#32
  | 34 => 0x3F71DDD3#32
  | 35 => 0x3F27D24A#32
  | 36 => 0xBECE18D8#32
  | 37 => 0x3F27FBB9#32
  | 38 => 0xBF1363A0#32
  | 39 => 0x3FCFC930#32
  | 40 => 0x3EA4ACB4#32
  | 41 => 0x3F5E563D#32
  | 42 => 0xBF0063C6#32
  | 43 => 0x3FC67956#32
  | 44 => 0x3F2CF2B6#32
  | 45 => 0xBE020519#32
  | 46 => 0x404905EE#32
  | 47 => 0x3E0ACC05#32
  | 48 => 0x3EFF019F#32
  | 49 => 0x3FADD2C4#32
  | 50 => 0xBF6CA423#32
  | 51 => 0xBF97EC94#32
  | 52 => 0x3F18A641#32
  | 53 => 0x40073F38#32
  | 54 => 0xBEAF3123#32
  | 55 => 0x3D86191A#32
  | 56 => 0x3F7187B6#32
  | 57 => 0xBE857E4B#32
  | 58 => 0x401B9051#32
  | 59 => 0x3FE46611#32
  | 60 => 0xBF1BD024#32
  | 61 => 0x3F66390E#32
  | 62 => 0x3F53B5BF#32
  | 63 => 0xBF1F2570#32
  | 64 => 0x3F9B11F0#32
  | 65 => 0xBEFC6611#32
  | 66 => 0x3F7E452C#32
  | 67 => 0x402C37E6#32
  | 68 => 0xBF323490#32
  | 69 => 0xBDC3B926#32
  | 70 => 0xBE1816F7#32
  | 71 => 0x4015EAC5#32
  | 72 => 0xBFB6461B#32
  | 73 => 0x4086D35D#32
  | 74 => 0xBF7D923A#32
  | 75 => 0xBEDDAF49#32
  | 76 => 0x3F871B33#32
  | 77 => 0xBF71A58E#32
  | 78 => 0x3FD7EC04#32
  | 79 => 0x3EDA3A14#32
  | 80 => 0x3EC178CD#32
  | 81 => 0x3FB98036#32
  | 82 => 0x3CACBA8A#32
  | 83 => 0x3F82CB4C#32
  | 84 => 0x3FBD5DAD#32
  | 85 => 0xBF016FDC#32
  | 86 => 0x3FBD1FEE#32
  | 87 => 0xBFCD7247#32
  | 88 => 0x402C3B7A#32
  | 89 => 0xBF638818#32
  | 90 => 0xBFA1D37C#32
  | 91 => 0x3FE82078#32
  | 92 => 0x3EED42BE#32
  | 93 => 0x405BF47D#32
  | 94 => 0x407EE94A#32
  | 95 => 0x3F9E4046#32
  | 96 => 0x3F5A094D#32
  | 97 => 0x3FABCA6B#32
  | 98 => 0x3F89D522#32
  | 99 => 0xBDB74917#32
  | 100 => 0x3E261E2E#32
  | 101 => 0xBFB71BC8#32
  | 102 => 0x3F3FE033#32
  | 103 => 0x3F8471CC#32
  | 104 => 0x3CC62F49#32
  | 105 => 0xBF4BB113#32
  | 106 => 0x3F932190#32
  | 107 => 0x3F9E1DD1#32
  | 108 => 0xBDE056DC#32
  | 109 => 0x3F0BFA99#32
  | 110 => 0x3F2D680F#32
  | 111 => 0xBE1E5226#32
  | 112 => 0xBDE16448#32
  | 113 => 0xBF6ED228#32
  | 114 => 0x3C7FDC4A#32
  | 115 => 0xBF9146EC#32
  | 116 => 0xBF8338DF#32
  | 117 => 0x3C933967#32
  | 118 => 0xBE3A4B8C#32
  | 119 => 0x3F49334E#32
  | 120 => 0x400E0B24#32
  | 121 => 0x40934C1E#32
  | 122 => 0xBF04B170#32
  | 123 => 0xBE24D8C0#32
  | 124 => 0xBF65DE65#32
  | 125 => 0x4063216E#32
  | 126 => 0xBF881B25#32
  | 127 => 0x400C7C7D#32
  | _ => 0#32

noncomputable abbrev lit0t0_898 (i : Nat) : BitVec 32 := match i % 128 with
  | 0 => 0x3E61B825#32
  | 1 => 0x3E448A0D#32
  | 2 => 0x3DCC859E#32
  | 3 => 0x3EFC2917#32
  | 4 => 0xBE9A246D#32
  | 5 => 0x400532F0#32
  | 6 => 0xBEE3FB7A#32
  | 7 => 0xBF927A89#32
  | 8 => 0x3F38EECC#32
  | 9 => 0x3FBAACA2#32
  | 10 => 0x40934944#32
  | 11 => 0xBEBC8125#32
  | 12 => 0xBF789478#32
  | 13 => 0x3FC7FB94#32
  | 14 => 0x3F083556#32
  | 15 => 0x3F20FA8D#32
  | 16 => 0xBF517FF1#32
  | 17 => 0x40085885#32
  | 18 => 0x3FBCE44B#32
  | 19 => 0xBFD002D5#32
  | 20 => 0x3ECE3357#32
  | 21 => 0x3EF099E4#32
  | 22 => 0x3D9B1906#32
  | 23 => 0x3F08DD09#32
  | 24 => 0x40064834#32
  | 25 => 0x3E38056F#32
  | 26 => 0xBFD8161A#32
  | 27 => 0x3F37AC40#32
  | 28 => 0x3FF77549#32
  | 29 => 0x3F8630B6#32
  | 30 => 0x405474BD#32
  | 31 => 0xBE6A83D0#32
  | 32 => 0x3F863511#32
  | 33 => 0x3F69B78A#32
  | 34 => 0x3E845361#32
  | 35 => 0x3EA7C4DF#32
  | 36 => 0x3E89CB34#32
  | 37 => 0xBF83CD3A#32
  | 38 => 0xBE4812A4#32
  | 39 => 0x3F37C0F0#32
  | 40 => 0x3C7D6B26#32
  | 41 => 0x3FDABE93#32
  | 42 => 0xBEF2E3CA#32
  | 43 => 0xBF770AE3#32
  | 44 => 0x3F93CD54#32
  | 45 => 0x3FD2BED5#32
  | 46 => 0x3F93058F#32
  | 47 => 0x3F02D70F#32
  | 48 => 0xBD88C7BA#32
  | 49 => 0x3FDB8599#32
  | 50 => 0x3E88B14F#32
  | 51 => 0xBF9F3AF2#32
  | 52 => 0xBF27BDB9#32
  | 53 => 0x3F914074#32
  | 54 => 0x3E589542#32
  | 55 => 0x3E6B6877#32
  | 56 => 0xBED4A19A#32
  | 57 => 0xBE8A19D1#32
  | 58 => 0xBE1E0ECE#32
  | 59 => 0x3F5FF753#32
  | 60 => 0x3F895B2C#32
  | 61 => 0xBF8E330D#32
  | 62 => 0x3FA82835#32
  | 63 => 0x3BC4FCC7#32
  | 64 => 0xBCCC3E7E#32
  | 65 => 0x3FBF3362#32
  | 66 => 0x3F208BA5#32
  | 67 => 0x3E850A70#32
  | 68 => 0x40120FA2#32
  | 69 => 0x403A42AF#32
  | 70 => 0xBEBEF1A2#32
  | 71 => 0xBF0263F7#32
  | 72 => 0x40112583#32
  | 73 => 0xBF96D7AE#32
  | 74 => 0x3F9C7C6A#32
  | 75 => 0x3F59EC3C#32
  | 76 => 0xBEB245AA#32
  | 77 => 0xBDB10C3F#32
  | 78 => 0x3F7D8430#32
  | 79 => 0xBF2E268E#32
  | 80 => 0xBF35E896#32
  | 81 => 0x3EB4DB1A#32
  | 82 => 0x3F47B2B2#32
  | 83 => 0x3F034E6E#32
  | 84 => 0xBF542762#32
  | 85 => 0xBF620E76#32
  | 86 => 0xBE89E44B#32
  | 87 => 0xBE0D15A4#32
  | 88 => 0x3EC610C7#32
  | 89 => 0xBE14A1E3#32
  | 90 => 0xBF85D004#32
  | 91 => 0x3F49454A#32
  | 92 => 0x3ED5C78C#32
  | 93 => 0x3D497498#32
  | 94 => 0x3F1CB40C#32
  | 95 => 0x3FC11722#32
  | 96 => 0xBEFA0B96#32
  | 97 => 0x3E89305D#32
  | 98 => 0x3FF341AB#32
  | 99 => 0xBEC9AAB5#32
  | 100 => 0xBF20BB46#32
  | 101 => 0x3FC2ED33#32
  | 102 => 0xBEC8ACD2#32
  | 103 => 0x3F00353B#32
  | 104 => 0x40A8C88E#32
  | 105 => 0x3EF92488#32
  | 106 => 0xBEA0B8ED#32
  | 107 => 0x3EA6CA7C#32
  | 108 => 0x3E55C03A#32
  | 109 => 0xBF965241#32
  | 110 => 0xBF4603A6#32
  | 111 => 0x407A09AD#32
  | 112 => 0x3FB5D1F9#32
  | 113 => 0x3F631FEA#32
  | 114 => 0xBD3D1D38#32
  | 115 => 0xBE820155#32
  | 116 => 0x3E1808A1#32
  | 117 => 0xBF683C30#32
  | 118 => 0xBF86DF73#32
  | 119 => 0x3FAA01DF#32
  | 120 => 0x3F7FAB20#32
  | 121 => 0xBE952F48#32
  | 122 => 0x3E68B64D#32
  | 123 => 0x3F0A37ED#32
  | 124 => 0x408325F9#32
  | 125 => 0xBF8275F8#32
  | 126 => 0x3E7F3D71#32
  | 127 => 0x3F0027D5#32
  | _ => 0#32

noncomputable abbrev lit0t0_899 (i : Nat) : BitVec 32 := match i % 128 with
  | 0 => 0x4074CBFC#32
  | 1 => 0x3F25F6D1#32
  | 2 => 0x3FB0C815#32
  | 3 => 0x3EB16251#32
  | 4 => 0xBFA0E742#32
  | 5 => 0x3EC1543F#32
  | 6 => 0xBF29BAA2#32
  | 7 => 0xBF5EFD3A#32
  | 8 => 0x3FBE2F40#32
  | 9 => 0x3F6971A2#32
  | 10 => 0x40155051#32
  | 11 => 0xBF622352#32
  | 12 => 0x3D34D15A#32
  | 13 => 0xBF96260C#32
  | 14 => 0x3CB22AAA#32
  | 15 => 0x3F94433F#32
  | 16 => 0xBEA74E0D#32
  | 17 => 0xBF9D00F2#32
  | 18 => 0xBF0748F7#32
  | 19 => 0xBCA1C36F#32
  | 20 => 0xBFB926FF#32
  | 21 => 0x3FF9ECE7#32
  | 22 => 0xBF486DF3#32
  | 23 => 0x400C1326#32
  | 24 => 0xBF91BAAD#32
  | 25 => 0x3ECEA9B6#32
  | 26 => 0x3FE09FA4#32
  | 27 => 0xBEAB84AD#32
  | 28 => 0x3F84E694#32
  | 29 => 0x3EDA22DB#32
  | 30 => 0x3E643303#32
  | 31 => 0xBD912295#32
  | 32 => 0x3F02C969#32
  | 33 => 0x3ED6A97E#32
  | 34 => 0x40AA4E22#32
  | 35 => 0x3FC2931F#32
  | 36 => 0x3FAAAB36#32
  | 37 => 0xBF13DF63#32
  | 38 => 0x3F84A60A#32
  | 39 => 0x3FA5AF43#32
  | 40 => 0x3EE84B4E#32
  | 41 => 0xBF8E4748#32
  | 42 => 0xBB9FEDED#32
  | 43 => 0xBE23593F#32
  | 44 => 0x3F1348D9#32
  | 45 => 0xBE777BE9#32
  | 46 => 0xBE645777#32
  | 47 => 0x4032FB29#32
  | 48 => 0x3F4EF583#32
  | 49 => 0x3F308966#32
  | 50 => 0xBD798920#32
  | 51 => 0xBF87CCC6#32
  | 52 => 0x3F9C1923#32
  | 53 => 0x3ED5FEED#32
  | 54 => 0x400A18EB#32
  | 55 => 0x3F8C6D67#32
  | 56 => 0xBF2D30B0#32
  | 57 => 0xBEA6FF2A#32
  | 58 => 0x3E57150E#32
  | 59 => 0x3F447C4F#32
  | 60 => 0x3F94D732#32
  | 61 => 0x3FE75AD0#32
  | 62 => 0x3FBFECF6#32
  | 63 => 0x3F670B97#32
  | 64 => 0x3B677E8B#32
  | 65 => 0x3F5B64AF#32
  | 66 => 0x3C1E6766#32
  | 67 => 0x3BE3F88B#32
  | 68 => 0x3FAFBBE7#32
  | 69 => 0x3FB06151#32
  | 70 => 0x404C692A#32
  | 71 => 0xBF0E50BD#32
  | 72 => 0xBEA0CAF6#32
  | 73 => 0xBC6D7E37#32
  | 74 => 0xBEE45716#32
  | 75 => 0xBED76452#32
  | 76 => 0x400F5896#32
  | 77 => 0x3EB07A1E#32
  | 78 => 0x403E62EE#32
  | 79 => 0xBF63255D#32
  | 80 => 0xBE7F75C7#32
  | 81 => 0x40521DFA#32
  | 82 => 0x3F997D1D#32
  | 83 => 0xBFC56014#32
  | 84 => 0x4082962B#32
  | 85 => 0x3DE89271#32
  | 86 => 0x3FB5C682#32
  | 87 => 0x3F476D70#32
  | 88 => 0x3F0F8E6A#32
  | 89 => 0x4048B9A4#32
  | 90 => 0x3F814756#32
  | 91 => 0xBBCBAF9A#32
  | 92 => 0xBD48A894#32
  | 93 => 0x3EC5ADF6#32
  | 94 => 0x3EA21092#32
  | 95 => 0x3F17FE6F#32
  | 96 => 0xBE2493F1#32
  | 97 => 0x3FF9DD4C#32
  | 98 => 0x3FF6EEA2#32
  | 99 => 0x3F58A3ED#32
  | 100 => 0xBE6975CF#32
  | 101 => 0xBE8F19AE#32
  | 102 => 0x3EB41979#32
  | 103 => 0x3EC10D01#32
  | 104 => 0xBF0395BF#32
  | 105 => 0xBE73E41B#32
  | 106 => 0xBEEE075C#32
  | 107 => 0xBFBEB774#32
  | 108 => 0x3FAB5495#32
  | 109 => 0x403BC858#32
  | 110 => 0xBF4D8D29#32
  | 111 => 0x40198D64#32
  | 112 => 0x3F028EF0#32
  | 113 => 0x3F3C020C#32
  | 114 => 0x3EFCD4C2#32
  | 115 => 0xBF740AE4#32
  | 116 => 0x3ED2D472#32
  | 117 => 0x3FE67E34#32
  | 118 => 0x40614D58#32
  | 119 => 0x3EB2ED36#32
  | 120 => 0xBFAEBFCF#32
  | 121 => 0xBF5CC60A#32
  | 122 => 0xBE2C3582#32
  | 123 => 0xBF711CAA#32
  | 124 => 0x400E36F9#32
  | 125 => 0x3F55016D#32
  | 126 => 0xBF9FC285#32
  | 127 => 0x3F23AFAD#32
  | _ => 0#32

noncomputable abbrev lit0t0_900 (i : Nat) : BitVec 32 := match i % 128 with
  | 0 => 0x3F407734#32
  | 1 => 0x3F443C20#32
  | 2 => 0xBE8E7570#32
  | 3 => 0x3E0D3368#32
  | 4 => 0xBE5F5942#32
  | 5 => 0xBF10A616#32
  | 6 => 0x409164C2#32
  | 7 => 0x3FB15908#32
  | 8 => 0x402FF069#32
  | 9 => 0x400A070A#32
  | 10 => 0xBF259385#32
  | 11 => 0xBF0F7B2C#32
  | 12 => 0x3FFD1329#32
  | 13 => 0x4035D613#32
  | 14 => 0xBE06D048#32
  | 15 => 0x3FD50B86#32
  | 16 => 0xBE8E6551#32
  | 17 => 0xBF103506#32
  | 18 => 0xBF19FDB6#32
  | 19 => 0x409201DF#32
  | 20 => 0x3FE55EAD#32
  | 21 => 0x400442E7#32
  | 22 => 0x40305B02#32
  | 23 => 0xBF92459C#32
  | 24 => 0xBECFC918#32
  | 25 => 0xBF20B414#32
  | 26 => 0x3F3A825B#32
  | 27 => 0x3F155DAC#32
  | 28 => 0xBF484E8B#32
  | 29 => 0x402257C1#32
  | 30 => 0xBF921F7E#32
  | 31 => 0xBE9D9A00#32
  | 32 => 0xBF996FEC#32
  | 33 => 0xBF666F3E#32
  | 34 => 0x3FF01D59#32
  | 35 => 0x3DA4B0F9#32
  | 36 => 0x3E764515#32
  | 37 => 0xBF8065BF#32
  | 38 => 0x3EE4CFA4#32
  | 39 => 0x4013CFE0#32
  | 40 => 0x3E739C8F#32
  | 41 => 0x402C3D4B#32
  | 42 => 0x3D7A5A03#32
  | 43 => 0xBE2D2EA5#32
  | 44 => 0xBE863081#32
  | 45 => 0x3FA632DF#32
  | 46 => 0xBE123A2C#32
  | 47 => 0x3F0C1CF0#32
  | 48 => 0xBF3DA4E3#32
  | 49 => 0x3FDD5560#32
  | 50 => 0x40901106#32
  | 51 => 0x3FCCA56A#32
  | 52 => 0x3EF05BD2#32
  | 53 => 0xBF3A82F8#32
  | 54 => 0xBF58AA3A#32
  | 55 => 0x4051F56E#32
  | 56 => 0xBF478E75#32
  | 57 => 0xBFECB5F9#32
  | 58 => 0xBF9FA80F#32
  | 59 => 0x3FC81A7F#32
  | 60 => 0x3F2F9137#32
  | 61 => 0x404457FF#32
  | 62 => 0x3FC3126B#32
  | 63 => 0x40315451#32
  | 64 => 0x3F680B9C#32
  | 65 => 0xBE466841#32
  | 66 => 0x3F673B56#32
  | 67 => 0x3F497E7A#32
  | 68 => 0x3F2C41F5#32
  | 69 => 0x3EF977EC#32
  | 70 => 0x3F21107B#32
  | 71 => 0x3E9254E6#32
  | 72 => 0x3F734518#32
  | 73 => 0x3ED267E6#32
  | 74 => 0xBEF8E624#32
  | 75 => 0x4017F4A3#32
  | 76 => 0x3FA81C76#32
  | 77 => 0x3F3733EB#32
  | 78 => 0xBF52B4F5#32
  | 79 => 0x3E75DC93#32
  | 80 => 0x3FC27148#32
  | 81 => 0xBE3ED03A#32
  | 82 => 0x3E187278#32
  | 83 => 0x3F9A1F68#32
  | 84 => 0x3ED91F9F#32
  | 85 => 0xBF19D6E0#32
  | 86 => 0x3F73BB18#32
  | 87 => 0x3F8ABF5E#32
  | 88 => 0x4070D6D2#32
  | 89 => 0xBEECE891#32
  | 90 => 0x40681F86#32
  | 91 => 0xBDADB62B#32
  | 92 => 0x3F9C019A#32
  | 93 => 0x3F5DF991#32
  | 94 => 0x3F5765CC#32
  | 95 => 0x3F3A91CE#32
  | 96 => 0x3FBB1A1F#32
  | 97 => 0xBF6C11FA#32
  | 98 => 0xBF6B8C24#32
  | 99 => 0x3ED4A2B7#32
  | 100 => 0x40474FD9#32
  | 101 => 0x3F41EF41#32
  | 102 => 0xBEAAD450#32
  | 103 => 0x3E89E321#32
  | 104 => 0x4046F950#32
  | 105 => 0xBF9128F7#32
  | 106 => 0x3E580F81#32
  | 107 => 0x3FEAEEF6#32
  | 108 => 0xBFB1F762#32
  | 109 => 0x3F0EC066#32
  | 110 => 0xBF795117#32
  | 111 => 0x3F6DF997#32
  | 112 => 0xBEF2454F#32
  | 113 => 0x401DE3C0#32
  | 114 => 0x3F7B15EB#32
  | 115 => 0x3E51E30F#32
  | 116 => 0x4004C248#32
  | 117 => 0xBFA3CC91#32
  | 118 => 0xBDD2696E#32
  | 119 => 0x3F267E53#32
  | 120 => 0xBFBC13D9#32
  | 121 => 0x3FADDE6B#32
  | 122 => 0x3F07AD2D#32
  | 123 => 0x3F71CA9E#32
  | 124 => 0xBF580995#32
  | 125 => 0xBF7E154A#32
  | 126 => 0x3F6E552E#32
  | 127 => 0x3DA2843A#32
  | _ => 0#32

noncomputable abbrev lit0t0_901 (i : Nat) : BitVec 32 := match i % 128 with
  | 0 => 0x3EEDFB56#32
  | 1 => 0x4079BC56#32
  | 2 => 0x3F42C054#32
  | 3 => 0x3DB2F97D#32
  | 4 => 0xBD0D14AD#32
  | 5 => 0xBF7DE77A#32
  | 6 => 0xBE3F4392#32
  | 7 => 0xBC900501#32
  | 8 => 0x3F5DB62A#32
  | 9 => 0x3FA5FB02#32
  | 10 => 0x3F282916#32
  | 11 => 0x3F4A8346#32
  | 12 => 0x3F791DAE#32
  | 13 => 0xBF0433F4#32
  | 14 => 0x3FC75879#32
  | 15 => 0xBEFD7791#32
  | 16 => 0x3F675FDC#32
  | 17 => 0xBF994499#32
  | 18 => 0xBF46B6E6#32
  | 19 => 0x3E58CDA2#32
  | 20 => 0x3DC28578#32
  | 21 => 0x403A8EF9#32
  | 22 => 0x3F30B494#32
  | 23 => 0xBE750D1D#32
  | 24 => 0x3F8E377C#32
  | 25 => 0x3FFBB747#32
  | 26 => 0xBE6E2DF1#32
  | 27 => 0x3F36B14A#32
  | 28 => 0x3F16B34B#32
  | 29 => 0x3F7DD11F#32
  | 30 => 0x3F712AAF#32
  | 31 => 0x3EA5250B#32
  | 32 => 0xBE81F822#32
  | 33 => 0x3EFA112D#32
  | 34 => 0xBF538198#32
  | 35 => 0xBE72BE2B#32
  | 36 => 0x3F7615D8#32
  | 37 => 0xBF8AC993#32
  | 38 => 0xBF363F85#32
  | 39 => 0xBEDA33FD#32
  | 40 => 0xBF4BD3EE#32
  | 41 => 0xBF360336#32
  | 42 => 0x3E5FF468#32
  | 43 => 0x3F06CC25#32
  | 44 => 0xBDA468F5#32
  | 45 => 0x3E3CC35C#32
  | 46 => 0xBEE42D68#32
  | 47 => 0x4007D8DE#32
  | 48 => 0x3FAEF8ED#32
  | 49 => 0xBF25E949#32
  | 50 => 0x3F83D524#32
  | 51 => 0xBE13155C#32
  | 52 => 0x3E17092E#32
  | 53 => 0x3ED6B1D9#32
  | 54 => 0x3F3FC13B#32
  | 55 => 0xBF5340AD#32
  | 56 => 0xBF649634#32
  | 57 => 0x3F022F08#32
  | 58 => 0x3FE0F825#32
  | 59 => 0xBEBAD6EB#32
  | 60 => 0xBFAA94D0#32
  | 61 => 0xBF2FEA1A#32
  | 62 => 0x3EBD28BA#32
  | 63 => 0xBDB9C1B3#32
  | 64 => 0xBE9E1E67#32
  | 65 => 0xBFD8EECB#32
  | 66 => 0xBECA1AF9#32
  | 67 => 0xBF89F0FC#32
  | 68 => 0xBEBC3F8F#32
  | 69 => 0x3F8710D1#32
  | 70 => 0x401D119A#32
  | 71 => 0x3F237CBD#32
  | 72 => 0xBE01C185#32
  | 73 => 0xBF33C3AC#32
  | 74 => 0xBE913807#32
  | 75 => 0x40333059#32
  | 76 => 0xBF9F55BB#32
  | 77 => 0x3FFD2D7B#32
  | 78 => 0x3EB3D7E8#32
  | 79 => 0x3F433B5F#32
  | 80 => 0x3FAF7F4E#32
  | 81 => 0xBF25830A#32
  | 82 => 0x3F1A7D14#32
  | 83 => 0xBF4924EA#32
  | 84 => 0x3FB2DDDA#32
  | 85 => 0xBF8D08B4#32
  | 86 => 0xBD974222#32
  | 87 => 0xBDCB6597#32
  | 88 => 0xBFB804AD#32
  | 89 => 0x3FF29253#32
  | 90 => 0x3FB035D1#32
  | 91 => 0xBEAB64E1#32
  | 92 => 0x3FB08C49#32
  | 93 => 0x40416866#32
  | 94 => 0x4017C216#32
  | 95 => 0xBE6519CC#32
  | 96 => 0x3E40774E#32
  | 97 => 0x3E0F2165#32
  | 98 => 0x3E554A3D#32
  | 99 => 0x3FD5CD23#32
  | 100 => 0x40097400#32
  | 101 => 0xBEE73F01#32
  | 102 => 0xBF5883DC#32
  | 103 => 0x3FADEA9A#32
  | 104 => 0xBEAAF6AF#32
  | 105 => 0x3ECC60B9#32
  | 106 => 0xBF3E342F#32
  | 107 => 0x3FF2470B#32
  | 108 => 0x3FCE17FC#32
  | 109 => 0x40218EC0#32
  | 110 => 0xBE7B75EB#32
  | 111 => 0xBF322C16#32
  | 112 => 0xBF43446A#32
  | 113 => 0x3C1F2740#32
  | 114 => 0x3EEADC74#32
  | 115 => 0x3F68AAA0#32
  | 116 => 0x403BC636#32
  | 117 => 0x3E8415E5#32
  | 118 => 0xBF21BA18#32
  | 119 => 0x3FF0EDFC#32
  | 120 => 0xBEF7D6E6#32
  | 121 => 0x3FC53556#32
  | 122 => 0x3FBE9BD3#32
  | 123 => 0x3F1108C0#32
  | 124 => 0x3F5CCA31#32
  | 125 => 0xBEA12BF2#32
  | 126 => 0xBE840C65#32
  | 127 => 0x3F257A93#32
  | _ => 0#32

noncomputable abbrev lit0t0_902 (i : Nat) : BitVec 32 := match i % 128 with
  | 0 => 0xBE0289D0#32
  | 1 => 0xBF328423#32
  | 2 => 0x3E8FCD66#32
  | 3 => 0x3F62E1FC#32
  | 4 => 0xBE624B4A#32
  | 5 => 0xBDDA7C7F#32
  | 6 => 0x3EA01F72#32
  | 7 => 0x3F2D3B9E#32
  | 8 => 0xBF806A64#32
  | 9 => 0x3B546000#32
  | 10 => 0xBF2648BC#32
  | 11 => 0x3F06F153#32
  | 12 => 0x3F6B6A9C#32
  | 13 => 0x409C7708#32
  | 14 => 0xBDC66EC5#32
  | 15 => 0xBEE6E1AA#32
  | 16 => 0xBED51ECE#32
  | 17 => 0x3F934091#32
  | 18 => 0x40274E4E#32
  | 19 => 0x3E7F6FB5#32
  | 20 => 0xBF245498#32
  | 21 => 0x401C995C#32
  | 22 => 0x3FC8896A#32
  | 23 => 0x3EF35BEF#32
  | 24 => 0xBF9D67D3#32
  | 25 => 0x4004F151#32
  | 26 => 0x3EE62F15#32
  | 27 => 0xBFB45F12#32
  | 28 => 0xBF475A8A#32
  | 29 => 0x3E37BE4A#32
  | 30 => 0x404E9A3C#32
  | 31 => 0xBEFA48B2#32
  | 32 => 0x3EE64D5C#32
  | 33 => 0xBF09FE7A#32
  | 34 => 0xBE534385#32
  | 35 => 0x3EC0C598#32
  | 36 => 0xBF49E4D9#32
  | 37 => 0x3EC7D5AC#32
  | 38 => 0x3E32E3F9#32
  | 39 => 0x409FFDAB#32
  | 40 => 0xBE5CD05B#32
  | 41 => 0x3F9CA5FE#32
  | 42 => 0xBF860680#32
  | 43 => 0x3E7DF8E7#32
  | 44 => 0x3FEB0541#32
  | 45 => 0x3EDD5D96#32
  | 46 => 0xBDC9347A#32
  | 47 => 0xBE9D22F0#32
  | 48 => 0x3F15193F#32
  | 49 => 0xBFC820F5#32
  | 50 => 0x40240204#32
  | 51 => 0x3C311FF9#32
  | 52 => 0x400A157C#32
  | 53 => 0xBEAB3201#32
  | 54 => 0xBF91E54C#32
  | 55 => 0x3F9AF842#32
  | 56 => 0x3F46AD83#32
  | 57 => 0x3DE4A4FE#32
  | 58 => 0x404EA544#32
  | 59 => 0x3E8729D4#32
  | 60 => 0xBF0287C6#32
  | 61 => 0xBED623FB#32
  | 62 => 0x40002F47#32
  | 63 => 0x3F5C7BE2#32
  | 64 => 0x3D19D346#32
  | 65 => 0xBEFE751E#32
  | 66 => 0xBD2753A5#32
  | 67 => 0xBCF22BCC#32
  | 68 => 0x3FA9E92A#32
  | 69 => 0x3E28E25F#32
  | 70 => 0x3D9AD81B#32
  | 71 => 0x4008D1EA#32
  | 72 => 0x40116092#32
  | 73 => 0xBF1BDFB0#32
  | 74 => 0x3FA99A4E#32
  | 75 => 0x40233B40#32
  | 76 => 0x3FC0E247#32
  | 77 => 0x3E42FEB1#32
  | 78 => 0x3E741958#32
  | 79 => 0x3E6C864B#32
  | 80 => 0xBF954D5E#32
  | 81 => 0x3F3ED513#32
  | 82 => 0xBF40B5A4#32
  | 83 => 0xBFA5F34B#32
  | 84 => 0x3E5E09D4#32
  | 85 => 0x405F1C64#32
  | 86 => 0x3FABF897#32
  | 87 => 0x3EECBEA2#32
  | 88 => 0x3FA0C44D#32
  | 89 => 0x3FFBF728#32
  | 90 => 0x3F4C2932#32
  | 91 => 0x3D8A09B8#32
  | 92 => 0xBDF00E8A#32
  | 93 => 0xBCCCA1BC#32
  | 94 => 0x3EC4ECE7#32
  | 95 => 0x3D1F2565#32
  | 96 => 0x4002B13B#32
  | 97 => 0x4082B105#32
  | 98 => 0xBE9ADBCD#32
  | 99 => 0xBE393503#32
  | 100 => 0x3FC57DAF#32
  | 101 => 0x3FADCB4D#32
  | 102 => 0x3EF48381#32
  | 103 => 0x3F0E97AB#32
  | 104 => 0x3FFBA6BF#32
  | 105 => 0xBD664084#32
  | 106 => 0x3FE89373#32
  | 107 => 0x405B86AD#32
  | 108 => 0x3F32A683#32
  | 109 => 0x3F88E838#32
  | 110 => 0xBF8CF764#32
  | 111 => 0xBEBC9027#32
  | 112 => 0xBE296014#32
  | 113 => 0x4013391A#32
  | 114 => 0x3E681FA1#32
  | 115 => 0xBEDF5005#32
  | 116 => 0x3FC641FB#32
  | 117 => 0x40105E97#32
  | 118 => 0xBEDC7B30#32
  | 119 => 0x3FE84F46#32
  | 120 => 0x3FE332AE#32
  | 121 => 0x3EF3A0E1#32
  | 122 => 0x3E6374EC#32
  | 123 => 0xBDBFD057#32
  | 124 => 0x3F41DF76#32
  | 125 => 0xBEBBB373#32
  | 126 => 0x3FDABFE5#32
  | 127 => 0xBF976327#32
  | _ => 0#32

noncomputable abbrev lit0t0_903 (i : Nat) : BitVec 32 := match i % 128 with
  | 0 => 0x3D91B21B#32
  | 1 => 0xBF0A65AF#32
  | 2 => 0xBF91D6B2#32
  | 3 => 0x401048F4#32
  | 4 => 0x3F91FBD6#32
  | 5 => 0xBE97A71F#32
  | 6 => 0x3E2C9A40#32
  | 7 => 0xBF178091#32
  | 8 => 0x3FB79C8B#32
  | 9 => 0xBF09CF39#32
  | 10 => 0xBEF25B68#32
  | 11 => 0x40239F6E#32
  | 12 => 0xBEBC2EBB#32
  | 13 => 0xBE6EDC1B#32
  | 14 => 0x3F5B61BB#32
  | 15 => 0xBFA5FA0A#32
  | 16 => 0x3DF47680#32
  | 17 => 0x3F31E865#32
  | 18 => 0x3F7612CA#32
  | 19 => 0x407F86EF#32
  | 20 => 0xBFF6638B#32
  | 21 => 0xBFB01181#32
  | 22 => 0x4025CFB7#32
  | 23 => 0x3E8647F2#32
  | 24 => 0x3EAD6E2C#32
  | 25 => 0x3F2A64AD#32
  | 26 => 0xBF18DBD7#32
  | 27 => 0x3FC9507E#32
  | 28 => 0xBF92296A#32
  | 29 => 0xBE4D1F8E#32
  | 30 => 0x3F66A9D6#32
  | 31 => 0x3F76B9FC#32
  | 32 => 0xBEAF9898#32
  | 33 => 0x3F6432DD#32
  | 34 => 0x406CD99D#32
  | 35 => 0x3F86317A#32
  | 36 => 0x401437F5#32
  | 37 => 0x401BDD48#32
  | 38 => 0x40C0BF9C#32
  | 39 => 0xBECAD9CF#32
  | 40 => 0x40A1C4DF#32
  | 41 => 0xBFBA563B#32
  | 42 => 0x3FAFD318#32
  | 43 => 0x3E0847C4#32
  | 44 => 0xBE80A09A#32
  | 45 => 0x3F0284D0#32
  | 46 => 0x3F1A0D3B#32
  | 47 => 0x3F8F8C44#32
  | 48 => 0x403A57F1#32
  | 49 => 0xBFABE77A#32
  | 50 => 0x3D877F21#32
  | 51 => 0xBED0ED2E#32
  | 52 => 0x3EE80F3C#32
  | 53 => 0x3EA7A5C2#32
  | 54 => 0xBF4BCA8D#32
  | 55 => 0x3F1F15D4#32
  | 56 => 0x402359C6#32
  | 57 => 0xBDBFE8EC#32
  | 58 => 0x40B4E0AC#32
  | 59 => 0x3E47A181#32
  | 60 => 0xBD8BD148#32
  | 61 => 0xBFADB423#32
  | 62 => 0xBF278DD1#32
  | 63 => 0x4002CCA7#32
  | 64 => 0xBF7B6279#32
  | 65 => 0x403ECBC2#32
  | 66 => 0xBF617543#32
  | 67 => 0x3F9D2091#32
  | 68 => 0x3F2A09A7#32
  | 69 => 0x3F06B0C8#32
  | 70 => 0xBFB4A66B#32
  | 71 => 0x4038C60A#32
  | 72 => 0x4031ADD8#32
  | 73 => 0x3F38450A#32
  | 74 => 0xBF8B1E16#32
  | 75 => 0xBE8B266E#32
  | 76 => 0x3EA4562A#32
  | 77 => 0x3F869190#32
  | 78 => 0x3FB47253#32
  | 79 => 0xBF04E04C#32
  | 80 => 0xBD3C6117#32
  | 81 => 0x3F75C54A#32
  | 82 => 0x3D24A843#32
  | 83 => 0x3ED5F511#32
  | 84 => 0xBE62C8A0#32
  | 85 => 0x3F0DFEE3#32
  | 86 => 0x40034998#32
  | 87 => 0xBF391273#32
  | 88 => 0xBF8D821A#32
  | 89 => 0x3EED1CBA#32
  | 90 => 0xBF6A0D5C#32
  | 91 => 0xBEBE702A#32
  | 92 => 0xBF328AA2#32
  | 93 => 0x3FB11130#32
  | 94 => 0x404AD662#32
  | 95 => 0x40288CD5#32
  | 96 => 0xBF79D4BC#32
  | 97 => 0x3DDE99C9#32
  | 98 => 0x4018B44B#32
  | 99 => 0xBF4D0295#32
  | 100 => 0x3FD5CB08#32
  | 101 => 0xBDA7C198#32
  | 102 => 0x3E2E7523#32
  | 103 => 0x3FB334DF#32
  | 104 => 0x3E1B679D#32
  | 105 => 0xBFB79A6C#32
  | 106 => 0xBF478AA0#32
  | 107 => 0x3F98486A#32
  | 108 => 0xBF8AEF30#32
  | 109 => 0xBF16FB69#32
  | 110 => 0x3FE53B71#32
  | 111 => 0x401A179E#32
  | 112 => 0xBFB20E67#32
  | 113 => 0x402981ED#32
  | 114 => 0xBF850176#32
  | 115 => 0x3E2D1365#32
  | 116 => 0x3E44DBA4#32
  | 117 => 0x3FB5D098#32
  | 118 => 0x4030B080#32
  | 119 => 0x3FC06CA6#32
  | 120 => 0x3FD97B2D#32
  | 121 => 0xBD88300E#32
  | 122 => 0x3FC798EE#32
  | 123 => 0x3F7083A1#32
  | 124 => 0x3D88BDB5#32
  | 125 => 0xBDC8986E#32
  | 126 => 0x3ED9723B#32
  | 127 => 0xBE8DC6A4#32
  | _ => 0#32

noncomputable abbrev lit0t0_904 (i : Nat) : BitVec 32 := match i % 128 with
  | 0 => 0xBEDA0A48#32
  | 1 => 0x40094642#32
  | 2 => 0x3DE3736C#32
  | 3 => 0x4000F622#32
  | 4 => 0x3FC31439#32
  | 5 => 0xBF5A241A#32
  | 6 => 0x3FE0E8EA#32
  | 7 => 0x3F61E433#32
  | 8 => 0x3FFBA8A4#32
  | 9 => 0xBF24526B#32
  | 10 => 0x4013785A#32
  | 11 => 0x3EC2A09E#32
  | 12 => 0xBE3B0F48#32
  | 13 => 0x3EFF199A#32
  | 14 => 0x3F558086#32
  | 15 => 0xBF8078E4#32
  | 16 => 0xBF60E776#32
  | 17 => 0x3F562052#32
  | 18 => 0x3F909503#32
  | 19 => 0xBEFEA56E#32
  | 20 => 0x3FF6E535#32
  | 21 => 0xBE87B0D1#32
  | 22 => 0xBFD03CF8#32
  | 23 => 0x3F5039AB#32
  | 24 => 0x3F9DC6FD#32
  | 25 => 0x3EA47BC1#32
  | 26 => 0x3F090F86#32
  | 27 => 0x3F0B2A00#32
  | 28 => 0x3F03AA6C#32
  | 29 => 0x3F86A925#32
  | 30 => 0x3F127328#32
  | 31 => 0x3F59A8A3#32
  | 32 => 0xBE1F3E66#32
  | 33 => 0x3F2112D9#32
  | 34 => 0x400D5D27#32
  | 35 => 0xBECCCC88#32
  | 36 => 0x3FCFFD09#32
  | 37 => 0x3C3F8F92#32
  | 38 => 0xBF9486FB#32
  | 39 => 0x3FC72924#32
  | 40 => 0x3F8C7A21#32
  | 41 => 0xBDF78884#32
  | 42 => 0x3ECF7300#32
  | 43 => 0xBEDCC0A1#32
  | 44 => 0x402EDF7D#32
  | 45 => 0x3F834A85#32
  | 46 => 0xBF73FD30#32
  | 47 => 0x3FAF76D6#32
  | 48 => 0x3F5159B9#32
  | 49 => 0xBCD8C3CF#32
  | 50 => 0xBE7AF905#32
  | 51 => 0x3F0454D0#32
  | 52 => 0x3DB745FC#32
  | 53 => 0x4100227F#32
  | 54 => 0xBDD834CA#32
  | 55 => 0x3F134EA8#32
  | 56 => 0xBE7B5000#32
  | 57 => 0x3FE66494#32
  | 58 => 0xBE98267A#32
  | 59 => 0x3FE6391D#32
  | 60 => 0xBEC781DB#32
  | 61 => 0x3E70ED87#32
  | 62 => 0x4023D7AF#32
  | 63 => 0x3D8FD74C#32
  | 64 => 0x3FEE7CA1#32
  | 65 => 0x3F79FACB#32
  | 66 => 0x3EE53992#32
  | 67 => 0x401EECA9#32
  | 68 => 0x3F9A79EA#32
  | 69 => 0x3EEFCADC#32
  | 70 => 0xBF3706C0#32
  | 71 => 0xBF821994#32
  | 72 => 0xBF3F03E3#32
  | 73 => 0x3F135442#32
  | 74 => 0x3FF8D210#32
  | 75 => 0xBE9C181E#32
  | 76 => 0xBD873C33#32
  | 77 => 0xBEB73DE9#32
  | 78 => 0x3FB63D1D#32
  | 79 => 0xBF151C9E#32
  | 80 => 0x3FB046CF#32
  | 81 => 0x3D42FE52#32
  | 82 => 0x3E2BA7A7#32
  | 83 => 0xBE87C26E#32
  | 84 => 0x3E65A088#32
  | 85 => 0xBFBD734B#32
  | 86 => 0x3FA794C2#32
  | 87 => 0x3FCB7FBE#32
  | 88 => 0x400BDBB1#32
  | 89 => 0x3FA9684C#32
  | 90 => 0xBEA10E3A#32
  | 91 => 0xBF3A0EA4#32
  | 92 => 0xBE9E1571#32
  | 93 => 0x3F51E8A3#32
  | 94 => 0x3FDA4DD1#32
  | 95 => 0x3F19B3DC#32
  | 96 => 0xBDF833D9#32
  | 97 => 0xBF0CB08E#32
  | 98 => 0x3F413AD4#32
  | 99 => 0x4080B68E#32
  | 100 => 0xBE4A4D98#32
  | 101 => 0xBF75573E#32
  | 102 => 0x3EDF0E5D#32
  | 103 => 0x3FB9A204#32
  | 104 => 0xBE8247DC#32
  | 105 => 0xBE213608#32
  | 106 => 0x3FB5E408#32
  | 107 => 0x3FC63CEF#32
  | 108 => 0x3F904876#32
  | 109 => 0xBF99FAC7#32
  | 110 => 0xBE8BFD4D#32
  | 111 => 0xBF47AC9F#32
  | 112 => 0x4009FCD4#32
  | 113 => 0xBF044076#32
  | 114 => 0x3D379DA4#32
  | 115 => 0x3FD37A43#32
  | 116 => 0xBF6B45B5#32
  | 117 => 0x3F039F04#32
  | 118 => 0x3E3FCCFF#32
  | 119 => 0xBEEAD950#32
  | 120 => 0x3FA11092#32
  | 121 => 0x40365EED#32
  | 122 => 0x3FDC5266#32
  | 123 => 0x3E47F25E#32
  | 124 => 0x4039418E#32
  | 125 => 0x3F8548BC#32
  | 126 => 0x3F210219#32
  | 127 => 0x3F6E840C#32
  | _ => 0#32

noncomputable abbrev lit0t0_905 (i : Nat) : BitVec 32 := match i % 128 with
  | 0 => 0xBD1120F6#32
  | 1 => 0x3F690078#32
  | 2 => 0x3F393D21#32
  | 3 => 0x400BCA16#32
  | 4 => 0x3FE0F6B8#32
  | 5 => 0xBF224D48#32
  | 6 => 0x3EFC1B9E#32
  | 7 => 0x400368AF#32
  | 8 => 0x3FB2EDC6#32
  | 9 => 0x3E0D68CE#32
  | 10 => 0x3F58442D#32
  | 11 => 0x3F061C8F#32
  | 12 => 0xBE3F542F#32
  | 13 => 0x4021D09E#32
  | 14 => 0xBF96F496#32
  | 15 => 0x3E8E030F#32
  | 16 => 0x3F945DE6#32
  | 17 => 0xBFE25062#32
  | 18 => 0x3F38AF26#32
  | 19 => 0x4000E5FC#32
  | 20 => 0xBFA481F8#32
  | 21 => 0x3F6479BD#32
  | 22 => 0xBF645AE0#32
  | 23 => 0x3DA7EA13#32
  | 24 => 0x3FD91C70#32
  | 25 => 0x3ED20D15#32
  | 26 => 0x3EE06F04#32
  | 27 => 0x3FBA3B5A#32
  | 28 => 0x404DACA5#32
  | 29 => 0xBFE4907E#32
  | 30 => 0xBF4EF8B2#32
  | 31 => 0x40955DA0#32
  | 32 => 0xBF8B8229#32
  | 33 => 0x3F63104E#32
  | 34 => 0xBFB1DF13#32
  | 35 => 0x3F258BA5#32
  | 36 => 0x4012446B#32
  | 37 => 0x3ECB77D4#32
  | 38 => 0x3FA10D31#32
  | 39 => 0xBEFD30E1#32
  | 40 => 0x3EB64550#32
  | 41 => 0xBEB78252#32
  | 42 => 0x3FBB9C5D#32
  | 43 => 0x40DC2DF8#32
  | 44 => 0x3E983559#32
  | 45 => 0x3F6F61BA#32
  | 46 => 0xBC604347#32
  | 47 => 0x4070BE8D#32
  | 48 => 0x3FEEC538#32
  | 49 => 0x3D960952#32
  | 50 => 0x3F1A2664#32
  | 51 => 0xBED5B3A8#32
  | 52 => 0xBF458FAD#32
  | 53 => 0xBF44A7FA#32
  | 54 => 0x3F1F9DDF#32
  | 55 => 0x3F449140#32
  | 56 => 0xBFA0EA18#32
  | 57 => 0x3DB0D418#32
  | 58 => 0x3EB007FF#32
  | 59 => 0x3FBEE3C0#32
  | 60 => 0xBF67F81C#32
  | 61 => 0x3F87DEF7#32
  | 62 => 0x4061CAB5#32
  | 63 => 0xBE158BCB#32
  | 64 => 0xBEDB43B1#32
  | 65 => 0x3F97F933#32
  | 66 => 0x3F9DB857#32
  | 67 => 0xBFD75C8A#32
  | 68 => 0xBD783B2C#32
  | 69 => 0x3EFCA398#32
  | 70 => 0x40D5F5D0#32
  | 71 => 0xBFA4640C#32
  | 72 => 0x3E9DD192#32
  | 73 => 0x3F8530B8#32
  | 74 => 0xBF5C29F8#32
  | 75 => 0xBE3787C1#32
  | 76 => 0xBED0258F#32
  | 77 => 0xBF5AE236#32
  | 78 => 0xBDDD97CA#32
  | 79 => 0xBF6FE0C6#32
  | 80 => 0xBE3C3474#32
  | 81 => 0xBEB5CC6F#32
  | 82 => 0xBF3989DA#32
  | 83 => 0x3FA8970A#32
  | 84 => 0x3FABD07B#32
  | 85 => 0x3FAB1A7A#32
  | 86 => 0xBF42FADA#32
  | 87 => 0xBED8C7E5#32
  | 88 => 0xBFC02E08#32
  | 89 => 0xBEFE63CE#32
  | 90 => 0xBE1753E5#32
  | 91 => 0xBFB151DE#32
  | 92 => 0xBE887A39#32
  | 93 => 0x3E0F0F0C#32
  | 94 => 0x4028D959#32
  | 95 => 0xBE942747#32
  | 96 => 0xBF9BA9C2#32
  | 97 => 0x3F658C06#32
  | 98 => 0xBF025264#32
  | 99 => 0xBF422842#32
  | 100 => 0x402E3829#32
  | 101 => 0x40108ECC#32
  | 102 => 0xBF8B7B18#32
  | 103 => 0x4003CEDB#32
  | 104 => 0x3E4788B1#32
  | 105 => 0x408E8A30#32
  | 106 => 0xBEF5FC66#32
  | 107 => 0x3FA29A27#32
  | 108 => 0x40A9AFE3#32
  | 109 => 0xBB3B2F80#32
  | 110 => 0x3FD595A7#32
  | 111 => 0x3EF27FD1#32
  | 112 => 0xBE1DA087#32
  | 113 => 0x3EE01E18#32
  | 114 => 0x402D13E1#32
  | 115 => 0x401E8CB4#32
  | 116 => 0xBE8642A2#32
  | 117 => 0x3E82D15B#32
  | 118 => 0xBF26B55D#32
  | 119 => 0x401D6B7D#32
  | 120 => 0x3F3A8E80#32
  | 121 => 0xBF4DD962#32
  | 122 => 0x3ED773AC#32
  | 123 => 0x3E00BC47#32
  | 124 => 0xBF13C08E#32
  | 125 => 0x409163A5#32
  | 126 => 0xBEB62736#32
  | 127 => 0x3EE0B5AA#32
  | _ => 0#32

noncomputable abbrev lit0t0_906 (i : Nat) : BitVec 32 := match i % 128 with
  | 0 => 0xBF470355#32
  | 1 => 0x3FD6B46E#32
  | 2 => 0x3F410E22#32
  | 3 => 0xBEA5B208#32
  | 4 => 0x3FC9E505#32
  | 5 => 0xBE6CE033#32
  | 6 => 0x403BF275#32
  | 7 => 0x3F82B7B8#32
  | 8 => 0x3F8B6F4C#32
  | 9 => 0x3E0720E7#32
  | 10 => 0x3FC28158#32
  | 11 => 0xBEB0FB3C#32
  | 12 => 0x401B95E4#32
  | 13 => 0x3E9518EC#32
  | 14 => 0x3FA64DD2#32
  | 15 => 0x3FDBA4B8#32
  | 16 => 0x3B8E5808#32
  | 17 => 0x3F48271E#32
  | 18 => 0xBF54B95D#32
  | 19 => 0xBF51830A#32
  | 20 => 0xBFABB5D1#32
  | 21 => 0xBEEC0A0A#32
  | 22 => 0x3F73A526#32
  | 23 => 0x4012F7C1#32
  | 24 => 0xBF2BC1DF#32
  | 25 => 0x40022572#32
  | 26 => 0x40B1B932#32
  | 27 => 0x3F818F8E#32
  | 28 => 0xBE8FDC5E#32
  | 29 => 0x3F4E3455#32
  | 30 => 0x40440E4E#32
  | 31 => 0xBF08A92D#32
  | 32 => 0xBF1F43F6#32
  | 33 => 0xBF50BAEF#32
  | 34 => 0x3FEB8D08#32
  | 35 => 0xBE3BA56B#32
  | 36 => 0x3ECCCE2B#32
  | 37 => 0x3F46305E#32
  | 38 => 0xBF3017A7#32
  | 39 => 0xBF170238#32
  | 40 => 0x400BF858#32
  | 41 => 0x40173CE4#32
  | 42 => 0x3F1872EB#32
  | 43 => 0x3E88C2E7#32
  | 44 => 0x3EC56DE1#32
  | 45 => 0x3F7EF6D7#32
  | 46 => 0xBD0C47F5#32
  | 47 => 0xBE9B6F3E#32
  | 48 => 0x3DAEE88C#32
  | 49 => 0x401900A4#32
  | 50 => 0xBED09E9C#32
  | 51 => 0xBECB37A7#32
  | 52 => 0xBE4A2C8E#32
  | 53 => 0x4040B257#32
  | 54 => 0x3E9866A3#32
  | 55 => 0xBECA52C1#32
  | 56 => 0x3E8DA4E3#32
  | 57 => 0x3ECC64D3#32
  | 58 => 0x3F824E31#32
  | 59 => 0x3EABCE09#32
  | 60 => 0xBF3B056C#32
  | 61 => 0x4073B7F7#32
  | 62 => 0x3E948BCF#32
  | 63 => 0x3D674FAE#32
  | 64 => 0x3F80CC72#32
  | 65 => 0x405AD368#32
  | 66 => 0x3F95811A#32
  | 67 => 0xBED76D73#32
  | 68 => 0xBEAF9624#32
  | 69 => 0xBF6F359B#32
  | 70 => 0x40105E32#32
  | 71 => 0xBF39C87B#32
  | 72 => 0xBDCB35C5#32
  | 73 => 0x3E9C3A2D#32
  | 74 => 0xBEC13C66#32
  | 75 => 0xBD6CFA19#32
  | 76 => 0x3FF12629#32
  | 77 => 0xBF96A157#32
  | 78 => 0xBF6804B5#32
  | 79 => 0xBD83A415#32
  | 80 => 0x3FD5F007#32
  | 81 => 0xBE0725E7#32
  | 82 => 0xBEF93556#32
  | 83 => 0xBF0095E0#32
  | 84 => 0x4023373F#32
  | 85 => 0xBE685C1A#32
  | 86 => 0xBE945AEE#32
  | 87 => 0xBF4E4107#32
  | 88 => 0xBEEF7CEA#32
  | 89 => 0x403AE3AA#32
  | 90 => 0x3EAA33C3#32
  | 91 => 0x401232C9#32
  | 92 => 0x3FA14F3A#32
  | 93 => 0x3C8930F3#32
  | 94 => 0x3EDC4B76#32
  | 95 => 0x3E31D9CB#32
  | 96 => 0x3F048C7A#32
  | 97 => 0x3F570B64#32
  | 98 => 0xBF17EB59#32
  | 99 => 0x4000E17C#32
  | 100 => 0x3F968AC0#32
  | 101 => 0xBE8E75BF#32
  | 102 => 0x403872E1#32
  | 103 => 0x40055B0B#32
  | 104 => 0x3FB7DA2D#32
  | 105 => 0xBF8A7BD0#32
  | 106 => 0x3FEE584F#32
  | 107 => 0x3FC14152#32
  | 108 => 0xBEB08576#32
  | 109 => 0xBEDF4E43#32
  | 110 => 0x3FC6D434#32
  | 111 => 0x3E9782D8#32
  | 112 => 0xBF5756DD#32
  | 113 => 0xBEBA09BF#32
  | 114 => 0x3FEC5019#32
  | 115 => 0xBE8952B1#32
  | 116 => 0x3F6DEED0#32
  | 117 => 0x3FFC283C#32
  | 118 => 0x3FD576A3#32
  | 119 => 0xBF94721A#32
  | 120 => 0x3F6F9B43#32
  | 121 => 0x3F5B828B#32
  | 122 => 0x40263B18#32
  | 123 => 0x4093CDFA#32
  | 124 => 0x3ED6DB8A#32
  | 125 => 0x3F4A00DC#32
  | 126 => 0xBC546D6E#32
  | 127 => 0x3F194278#32
  | _ => 0#32

noncomputable abbrev lit0t0_907 (i : Nat) : BitVec 32 := match i % 128 with
  | 0 => 0xBF198141#32
  | 1 => 0x3F8E080F#32
  | 2 => 0x3E085BE7#32
  | 3 => 0x3F16631E#32
  | 4 => 0xBEB353F6#32
  | 5 => 0xBF94830D#32
  | 6 => 0x3F63A637#32
  | 7 => 0xBF675DE2#32
  | 8 => 0xBC266BE4#32
  | 9 => 0x3F1012EC#32
  | 10 => 0x403EC0D3#32
  | 11 => 0x3F81A175#32
  | 12 => 0xBEEF1EB2#32
  | 13 => 0x3F99A32D#32
  | 14 => 0xBF09F25C#32
  | 15 => 0xBF531860#32
  | 16 => 0xBE5446CB#32
  | 17 => 0xBE9FC094#32
  | 18 => 0x3F177DA5#32
  | 19 => 0x400AA0DA#32
  | 20 => 0x3F1355A1#32
  | 21 => 0xBF05BAC2#32
  | 22 => 0x3F525704#32
  | 23 => 0x3E451F94#32
  | 24 => 0xBED2E356#32
  | 25 => 0x3FBE8CE0#32
  | 26 => 0x3DDF5563#32
  | 27 => 0x3F840A34#32
  | 28 => 0x3ED95483#32
  | 29 => 0xBF35987E#32
  | 30 => 0x3EC6E666#32
  | 31 => 0x3ED1B55A#32
  | 32 => 0x3FC61F70#32
  | 33 => 0xBF9357F5#32
  | 34 => 0xBE98BD37#32
  | 35 => 0xBF875719#32
  | 36 => 0x3F63461F#32
  | 37 => 0xBFE2AF78#32
  | 38 => 0x3F3DC897#32
  | 39 => 0x3DA782A1#32
  | 40 => 0x400880F3#32
  | 41 => 0x3F738F98#32
  | 42 => 0x3F899AD8#32
  | 43 => 0x3DBC9B99#32
  | 44 => 0x3F4214D7#32
  | 45 => 0xBF152B85#32
  | 46 => 0x3F167B2E#32
  | 47 => 0x3ED075C5#32
  | 48 => 0x3F0F434C#32
  | 49 => 0xBF92C5C2#32
  | 50 => 0xBF5D0601#32
  | 51 => 0x3F5995EA#32
  | 52 => 0x403BCAB5#32
  | 53 => 0x40013D01#32
  | 54 => 0x3E6563D4#32
  | 55 => 0x3F85FF67#32
  | 56 => 0x4005CC97#32
  | 57 => 0x3FD5732A#32
  | 58 => 0x3E9EBCE1#32
  | 59 => 0x3F8BF4EC#32
  | 60 => 0x3FB10198#32
  | 61 => 0x3FB71865#32
  | 62 => 0x3E10E0D8#32
  | 63 => 0x401C8456#32
  | 64 => 0x3F2AEFD1#32
  | 65 => 0x405722F1#32
  | 66 => 0x3EAE23DF#32
  | 67 => 0x3F4778BA#32
  | 68 => 0x4066C5DF#32
  | 69 => 0x40C4418F#32
  | 70 => 0x3F7B63E9#32
  | 71 => 0x3FF31055#32
  | 72 => 0x3FFBF7A5#32
  | 73 => 0x3FF23C67#32
  | 74 => 0x3D91D7C2#32
  | 75 => 0x40483DD9#32
  | 76 => 0xBF65966D#32
  | 77 => 0xBEC5D62E#32
  | 78 => 0x4036197A#32
  | 79 => 0xBEE4B1AF#32
  | 80 => 0xBEC54F28#32
  | 81 => 0xBF98FD0E#32
  | 82 => 0x3D850B6C#32
  | 83 => 0x3FF6DF5E#32
  | 84 => 0x3FBC25C8#32
  | 85 => 0xBE21767F#32
  | 86 => 0x40170571#32
  | 87 => 0x3FA402BB#32
  | 88 => 0xBDFA6B1A#32
  | 89 => 0x3E866FB2#32
  | 90 => 0x3F2741FC#32
  | 91 => 0x3FB7DF28#32
  | 92 => 0x3EDA61FD#32
  | 93 => 0xBE16E62F#32
  | 94 => 0x3F9FC4C0#32
  | 95 => 0x3E35471B#32
  | 96 => 0x3E89F59D#32
  | 97 => 0x3E0AACBA#32
  | 98 => 0x3F9307C7#32
  | 99 => 0xBF38A2DA#32
  | 100 => 0xBF233492#32
  | 101 => 0x3ECD9CF6#32
  | 102 => 0x4035843C#32
  | 103 => 0x3F1DDFA2#32
  | 104 => 0x3F9FFA63#32
  | 105 => 0x400D7C24#32
  | 106 => 0x3F378B93#32
  | 107 => 0x4000AC56#32
  | 108 => 0x3EEB70E6#32
  | 109 => 0xBF4EB150#32
  | 110 => 0x40986AFD#32
  | 111 => 0x3FB9D9DC#32
  | 112 => 0x404A0D25#32
  | 113 => 0x3D9214BC#32
  | 114 => 0xBE72406B#32
  | 115 => 0xBEA6FEB7#32
  | 116 => 0xBF4E5A1B#32
  | 117 => 0x3F5205C5#32
  | 118 => 0x3F937A04#32
  | 119 => 0xBEC66893#32
  | 120 => 0x3F583508#32
  | 121 => 0x3FDF3E2C#32
  | 122 => 0xBF2ACB1A#32
  | 123 => 0xBE8D3FA0#32
  | 124 => 0x3F1213D9#32
  | 125 => 0x401F1961#32
  | 126 => 0x3E78E6A8#32
  | 127 => 0xBF3611F8#32
  | _ => 0#32

noncomputable abbrev lit0t0_908 (i : Nat) : BitVec 32 := match i % 128 with
  | 0 => 0xBFE97A1F#32
  | 1 => 0x4002F0A8#32
  | 2 => 0xBEDBF295#32
  | 3 => 0x3EA13981#32
  | 4 => 0xBF15D53B#32
  | 5 => 0x3FEFAC3C#32
  | 6 => 0x40040277#32
  | 7 => 0x3F1A6EC4#32
  | 8 => 0x3F46A944#32
  | 9 => 0xBEAA6398#32
  | 10 => 0xBF5A9897#32
  | 11 => 0xBE7A4F4F#32
  | 12 => 0x3EA56AD9#32
  | 13 => 0xBF51CE73#32
  | 14 => 0x3F5724B2#32
  | 15 => 0xBF919994#32
  | 16 => 0x3F80507A#32
  | 17 => 0x3F596BC0#32
  | 18 => 0xBF1E1802#32
  | 19 => 0x4022F946#32
  | 20 => 0x3DB2A8D7#32
  | 21 => 0x3F8E5FAD#32
  | 22 => 0x3ECBA114#32
  | 23 => 0xBDC585E8#32
  | 24 => 0x3CD844AC#32
  | 25 => 0x3FDB8A68#32
  | 26 => 0x3FBBDA04#32
  | 27 => 0xBEB5BA8F#32
  | 28 => 0x4023C7A3#32
  | 29 => 0x3EDD8508#32
  | 30 => 0x3FFFF7CB#32
  | 31 => 0x3E2B1A0C#32
  | 32 => 0x4068B7A2#32
  | 33 => 0xBF667F01#32
  | 34 => 0xBE9C1258#32
  | 35 => 0x3FB9705E#32
  | 36 => 0x3EC80D7E#32
  | 37 => 0x3FED21D8#32
  | 38 => 0xBF280EA4#32
  | 39 => 0xBF027AFA#32
  | 40 => 0x3F91E99A#32
  | 41 => 0x3FF208FE#32
  | 42 => 0xBF724358#32
  | 43 => 0x3EE60831#32
  | 44 => 0x3E69DB4F#32
  | 45 => 0xBF16B4CD#32
  | 46 => 0xBFAB1608#32
  | 47 => 0x402B1157#32
  | 48 => 0x403A33F5#32
  | 49 => 0xBF401562#32
  | 50 => 0x3FB5EF18#32
  | 51 => 0xBEB0316A#32
  | 52 => 0x3F38C7FA#32
  | 53 => 0xBFF90358#32
  | 54 => 0xBDBE05F0#32
  | 55 => 0xBEFA3110#32
  | 56 => 0xBF9FE4D6#32
  | 57 => 0xBEB2C4E3#32
  | 58 => 0x3C79E8B5#32
  | 59 => 0x3F698608#32
  | 60 => 0xBF26B9C6#32
  | 61 => 0x3F9BBB77#32
  | 62 => 0x3FB2DB72#32
  | 63 => 0x3E474A71#32
  | 64 => 0xBEA2593C#32
  | 65 => 0x400E049D#32
  | 66 => 0xBF2E8910#32
  | 67 => 0x3ED8AD2B#32
  | 68 => 0x3E8B9C01#32
  | 69 => 0xBF3163EA#32
  | 70 => 0x3E396E72#32
  | 71 => 0x3FD985BE#32
  | 72 => 0x3F0B406C#32
  | 73 => 0x3E4965EA#32
  | 74 => 0xBF641D3C#32
  | 75 => 0xBF2E41DD#32
  | 76 => 0xBEE608CB#32
  | 77 => 0xBEBEAB68#32
  | 78 => 0xBF4E19F7#32
  | 79 => 0x4016BDD5#32
  | 80 => 0xBD92AFFB#32
  | 81 => 0x3F2C9FF9#32
  | 82 => 0x3E76C786#32
  | 83 => 0xBF9367CF#32
  | 84 => 0x3F7E22DF#32
  | 85 => 0xBD9C7A50#32
  | 86 => 0xBF610B14#32
  | 87 => 0x3FF27D7E#32
  | 88 => 0xBE8DCD6B#32
  | 89 => 0xBE8DE0F2#32
  | 90 => 0xBE42668E#32
  | 91 => 0xBD2C4AD6#32
  | 92 => 0xBEF9420A#32
  | 93 => 0x3EB98273#32
  | 94 => 0x3FBE5562#32
  | 95 => 0x3DA90BAA#32
  | 96 => 0xBF13968B#32
  | 97 => 0x3F01D4E3#32
  | 98 => 0x3F43D4B8#32
  | 99 => 0x3FDA3230#32
  | 100 => 0x3FC44AE7#32
  | 101 => 0x3E9700AA#32
  | 102 => 0xBE7F7FFB#32
  | 103 => 0xBEDFDC57#32
  | 104 => 0x3EC45550#32
  | 105 => 0xBDADF080#32
  | 106 => 0x3FAE8E77#32
  | 107 => 0xBECBA67F#32
  | 108 => 0xBF5B720E#32
  | 109 => 0x3FA250EB#32
  | 110 => 0x3FAF664C#32
  | 111 => 0xBE0538FB#32
  | 112 => 0xBE203B45#32
  | 113 => 0xBE4156DF#32
  | 114 => 0x3F878255#32
  | 115 => 0x3F588AAC#32
  | 116 => 0x3EBFFDB3#32
  | 117 => 0x4013C6C6#32
  | 118 => 0xBF67E283#32
  | 119 => 0xBF7EF142#32
  | 120 => 0x3EDDB4E7#32
  | 121 => 0x3F22F25A#32
  | 122 => 0x3F2F26E3#32
  | 123 => 0x3EEE5F4B#32
  | 124 => 0x4010EEBC#32
  | 125 => 0xBF38EB4B#32
  | 126 => 0xBF761366#32
  | 127 => 0x3DC83B2C#32
  | _ => 0#32

noncomputable abbrev lit0t0_909 (i : Nat) : BitVec 32 := match i % 128 with
  | 0 => 0x3F22E350#32
  | 1 => 0xBF3D462C#32
  | 2 => 0xBFACBB8B#32
  | 3 => 0x3FE14A50#32
  | 4 => 0x3FA77976#32
  | 5 => 0x3F915EAE#32
  | 6 => 0xBE9550A0#32
  | 7 => 0xBF07F439#32
  | 8 => 0x3F16BEAD#32
  | 9 => 0xBEEB7B4A#32
  | 10 => 0x3F0C396F#32
  | 11 => 0xBF89F304#32
  | 12 => 0xBF0EBD0B#32
  | 13 => 0x3ED98644#32
  | 14 => 0xBE6F122D#32
  | 15 => 0xBF0714A2#32
  | 16 => 0x3EDE6BFD#32
  | 17 => 0xBF2B4079#32
  | 18 => 0xBE8DDB5F#32
  | 19 => 0xBEC389FD#32
  | 20 => 0xBC605CEE#32
  | 21 => 0xBF00F910#32
  | 22 => 0x3EC9414F#32
  | 23 => 0xBEA677BC#32
  | 24 => 0x3F65B416#32
  | 25 => 0x4082B050#32
  | 26 => 0x3F6A66F8#32
  | 27 => 0x3D685456#32
  | 28 => 0x3E0DA7E7#32
  | 29 => 0x3EE43780#32
  | 30 => 0xBF499C5C#32
  | 31 => 0xBF2B965C#32
  | 32 => 0x3EFD9DC9#32
  | 33 => 0x402B3B08#32
  | 34 => 0x3FCA4636#32
  | 35 => 0x3FB75537#32
  | 36 => 0x3EDEAD25#32
  | 37 => 0x3FB2652E#32
  | 38 => 0x3FD32C6A#32
  | 39 => 0xBE8CBBDB#32
  | 40 => 0x400AA799#32
  | 41 => 0xBFA4881D#32
  | 42 => 0x3E610D6A#32
  | 43 => 0xBE847A4C#32
  | 44 => 0x3EDDC2F7#32
  | 45 => 0x3E7FB5A3#32
  | 46 => 0x3FB9D76A#32
  | 47 => 0xBF00C4BB#32
  | 48 => 0x3F357F6B#32
  | 49 => 0x4009BEFF#32
  | 50 => 0x40A3D68D#32
  | 51 => 0x3EA79CF0#32
  | 52 => 0x3F5CC676#32
  | 53 => 0xBF6DC661#32
  | 54 => 0x3FF94D43#32
  | 55 => 0x40000BFE#32
  | 56 => 0xBEC3072B#32
  | 57 => 0x3FC94C70#32
  | 58 => 0x3F477E32#32
  | 59 => 0xBF8A02D0#32
  | 60 => 0x3F92BEE2#32
  | 61 => 0xBF71A031#32
  | 62 => 0x3F4B1EBA#32
  | 63 => 0x3FBDA75A#32
  | 64 => 0x406F4A4E#32
  | 65 => 0x3FACE653#32
  | 66 => 0x4043B03A#32
  | 67 => 0xBEBBECA9#32
  | 68 => 0x3E799F4D#32
  | 69 => 0xBDB1B0CC#32
  | 70 => 0xBE0AE331#32
  | 71 => 0x3F1E82E6#32
  | 72 => 0xBE571E56#32
  | 73 => 0x3F0DA101#32
  | 74 => 0xBDD5BBE5#32
  | 75 => 0x40018529#32
  | 76 => 0x3F985123#32
  | 77 => 0x3F061A68#32
  | 78 => 0x3F4425A6#32
  | 79 => 0xBEE98A30#32
  | 80 => 0x3FDFEC01#32
  | 81 => 0x3FC0A1DE#32
  | 82 => 0x3FE59804#32
  | 83 => 0xBBA0FC99#32
  | 84 => 0xBEF6B104#32
  | 85 => 0xBA45050A#32
  | 86 => 0x3EAFFF0C#32
  | 87 => 0xBD778B82#32
  | 88 => 0x3F9E5AD8#32
  | 89 => 0xBE064F46#32
  | 90 => 0x3DA63048#32
  | 91 => 0x3E81C888#32
  | 92 => 0x3FF245CE#32
  | 93 => 0x3F4F92D9#32
  | 94 => 0x3F8BD4CC#32
  | 95 => 0xBF38012C#32
  | 96 => 0xBF238E72#32
  | 97 => 0x40007CB1#32
  | 98 => 0xBF39D63E#32
  | 99 => 0x3F9A7A68#32
  | 100 => 0x3FB84B33#32
  | 101 => 0xBF746BCC#32
  | 102 => 0xBF218393#32
  | 103 => 0x4016B965#32
  | 104 => 0x3F16F2D7#32
  | 105 => 0x3FE927C4#32
  | 106 => 0x3FF50D02#32
  | 107 => 0xBFB3ACDA#32
  | 108 => 0x3CFA3B1B#32
  | 109 => 0x3FC1FF02#32
  | 110 => 0xBF935D8F#32
  | 111 => 0x40482388#32
  | 112 => 0xBEDFC880#32
  | 113 => 0xBF7B790A#32
  | 114 => 0xBFC3405F#32
  | 115 => 0x3F9EBA51#32
  | 116 => 0x3FF4980A#32
  | 117 => 0xBF350A29#32
  | 118 => 0x404940D8#32
  | 119 => 0xBF300016#32
  | 120 => 0x404D4AD3#32
  | 121 => 0x3FC5013B#32
  | 122 => 0x3F6F2A21#32
  | 123 => 0xBEC36895#32
  | 124 => 0x3F907EE0#32
  | 125 => 0x3F1CE19A#32
  | 126 => 0xBF947CE5#32
  | 127 => 0xBEE74987#32
  | _ => 0#32

noncomputable abbrev lit0t0_910 (i : Nat) : BitVec 32 := match i % 128 with
  | 0 => 0x3FA14A2E#32
  | 1 => 0x3F0E3C9A#32
  | 2 => 0x3E46AECC#32
  | 3 => 0xBFB82D57#32
  | 4 => 0xBDC7AA16#32
  | 5 => 0x4045CD0B#32
  | 6 => 0x401EFC9D#32
  | 7 => 0xBD171E7C#32
  | 8 => 0x4037605E#32
  | 9 => 0x3FDA66CF#32
  | 10 => 0x40143F6E#32
  | 11 => 0x3F9676C6#32
  | 12 => 0x3DC0CA80#32
  | 13 => 0xBE407133#32
  | 14 => 0xBEB4CEC8#32
  | 15 => 0xBD1E131F#32
  | 16 => 0x3FAD1FF6#32
  | 17 => 0x3F5C8773#32
  | 18 => 0xBF70ADE1#32
  | 19 => 0xBEACA039#32
  | 20 => 0xBCC73003#32
  | 21 => 0x3D3BF8FB#32
  | 22 => 0x3FBF4448#32
  | 23 => 0x3ED3AB04#32
  | 24 => 0x40068810#32
  | 25 => 0x3FC0AE31#32
  | 26 => 0x3E9F5842#32
  | 27 => 0x3F72034B#32
  | 28 => 0x3F8E26EE#32
  | 29 => 0x3F890388#32
  | 30 => 0xBF8515D4#32
  | 31 => 0x3F33B27C#32
  | 32 => 0xBF8C6900#32
  | 33 => 0x3FF4E03C#32
  | 34 => 0x3D34B993#32
  | 35 => 0x3EA30B21#32
  | 36 => 0xBE7A8380#32
  | 37 => 0x3E1D3141#32
  | 38 => 0x40C37AD7#32
  | 39 => 0xBFDCDF1C#32
  | 40 => 0x3F844C3D#32
  | 41 => 0x3ECED972#32
  | 42 => 0x3EC79521#32
  | 43 => 0x3F057B86#32
  | 44 => 0x3E92C438#32
  | 45 => 0x408FC782#32
  | 46 => 0xBF03F9C8#32
  | 47 => 0x3F9293AA#32
  | 48 => 0x401DC821#32
  | 49 => 0xBF124DF8#32
  | 50 => 0xBF9B25C9#32
  | 51 => 0x3ED87C2A#32
  | 52 => 0xBF4D19B9#32
  | 53 => 0x400F123A#32
  | 54 => 0xBE624076#32
  | 55 => 0x3F358CEB#32
  | 56 => 0x3E591719#32
  | 57 => 0x3F9AFF33#32
  | 58 => 0x3FD3EEE3#32
  | 59 => 0x40149ED0#32
  | 60 => 0x3E032085#32
  | 61 => 0x3FB5A8D2#32
  | 62 => 0x3FBDC373#32
  | 63 => 0x3FA15640#32
  | 64 => 0x40358352#32
  | 65 => 0xBD422A86#32
  | 66 => 0xBEA7CC30#32
  | 67 => 0x3F0AA37A#32
  | 68 => 0x400E294D#32
  | 69 => 0x3F6D232F#32
  | 70 => 0xBE8DF56D#32
  | 71 => 0xBF338D23#32
  | 72 => 0x3F0673E6#32
  | 73 => 0x3F9A7501#32
  | 74 => 0x3FB90FE7#32
  | 75 => 0x3DC02C2C#32
  | 76 => 0x3FC680C1#32
  | 77 => 0x3E3BC0C7#32
  | 78 => 0x400C9BBF#32
  | 79 => 0xBBB5A9D9#32
  | 80 => 0xBECE83DA#32
  | 81 => 0xBEF6D1F5#32
  | 82 => 0x3F3BA478#32
  | 83 => 0x3F2490B3#32
  | 84 => 0xBEB21D9C#32
  | 85 => 0x3D806170#32
  | 86 => 0x401D0714#32
  | 87 => 0x3FB983F9#32
  | 88 => 0xBF80CCBC#32
  | 89 => 0xBF1E102E#32
  | 90 => 0xBE4F6F9D#32
  | 91 => 0xBE5A8016#32
  | 92 => 0xBEF963C5#32
  | 93 => 0x3FD567CA#32
  | 94 => 0x3F977ED8#32
  | 95 => 0x3F1E9B35#32
  | 96 => 0xBF85B579#32
  | 97 => 0x405B1B1F#32
  | 98 => 0x3F835514#32
  | 99 => 0x3F6738FF#32
  | 100 => 0x4001CE1D#32
  | 101 => 0xBE9815CB#32
  | 102 => 0x3EAFFE19#32
  | 103 => 0x3FD3A544#32
  | 104 => 0xBE9242D1#32
  | 105 => 0xBDC8668F#32
  | 106 => 0x3F8CB0D4#32
  | 107 => 0x3FB7E2A8#32
  | 108 => 0xBE29161F#32
  | 109 => 0x405FF3C6#32
  | 110 => 0x40902C3C#32
  | 111 => 0x3F2C8F5B#32
  | 112 => 0xBF95D4E1#32
  | 113 => 0xBE623F56#32
  | 114 => 0xBF9FE5DC#32
  | 115 => 0xBD9A7270#32
  | 116 => 0x3F92D320#32
  | 117 => 0x3F0CA8A4#32
  | 118 => 0xBFBD8F08#32
  | 119 => 0x3FAE7299#32
  | 120 => 0xBF613214#32
  | 121 => 0x3FCC41F4#32
  | 122 => 0xBF6B4CDB#32
  | 123 => 0xBE0EAE81#32
  | 124 => 0x3F8BE3ED#32
  | 125 => 0x408077A1#32
  | 126 => 0xBF0ED0ED#32
  | 127 => 0x3FC24620#32
  | _ => 0#32

noncomputable abbrev lit0t0_911 (i : Nat) : BitVec 32 := match i % 128 with
  | 0 => 0xBD3AE004#32
  | 1 => 0xBF4C3089#32
  | 2 => 0x3F1A51F8#32
  | 3 => 0x3BF1393E#32
  | 4 => 0x404C9B41#32
  | 5 => 0x3FD76C4D#32
  | 6 => 0xBF9BEEE4#32
  | 7 => 0x3FA61A30#32
  | 8 => 0xBF1CF4C2#32
  | 9 => 0x3EA6DCF7#32
  | 10 => 0x3F6FB2EA#32
  | 11 => 0x3F825387#32
  | 12 => 0x3FA969C4#32
  | 13 => 0xBEDD26E5#32
  | 14 => 0xBF356D56#32
  | 15 => 0x3FAE6FF5#32
  | 16 => 0x3F3FFCEC#32
  | 17 => 0xBEF4339B#32
  | 18 => 0xBE12DF1C#32
  | 19 => 0xBFA14248#32
  | 20 => 0x3FA614DF#32
  | 21 => 0x3F671B74#32
  | 22 => 0x40099FE0#32
  | 23 => 0x3ED274CD#32
  | 24 => 0xBD34C058#32
  | 25 => 0x3FC9B256#32
  | 26 => 0xBEBFC27D#32
  | 27 => 0xBF2D68F6#32
  | 28 => 0xBF94875E#32
  | 29 => 0x3F845DD3#32
  | 30 => 0xBE92E62B#32
  | 31 => 0x3EDD090F#32
  | 32 => 0x3FEDDCE3#32
  | 33 => 0x3E205DA4#32
  | 34 => 0x3D4B9AB3#32
  | 35 => 0xBF06B44E#32
  | 36 => 0x408E7F10#32
  | 37 => 0x3F361FCB#32
  | 38 => 0xBEB939D3#32
  | 39 => 0x400F2632#32
  | 40 => 0x3DD74AD7#32
  | 41 => 0xBF3AB69E#32
  | 42 => 0xBF8E8C42#32
  | 43 => 0xBCB4ED7B#32
  | 44 => 0x3F79DB64#32
  | 45 => 0x3F66C58F#32
  | 46 => 0x3F34EBD3#32
  | 47 => 0xBF3C3860#32
  | 48 => 0x3E03218C#32
  | 49 => 0xBF327C39#32
  | 50 => 0x401D13C8#32
  | 51 => 0xBF3357A4#32
  | 52 => 0xBF3EE7E7#32
  | 53 => 0x3E1C0B51#32
  | 54 => 0x3FC20750#32
  | 55 => 0x408686B2#32
  | 56 => 0x3F4BC604#32
  | 57 => 0x3F04CBC1#32
  | 58 => 0x3E522927#32
  | 59 => 0x3F7F6DAE#32
  | 60 => 0xBF63BD2F#32
  | 61 => 0x3F2AC600#32
  | 62 => 0xBF51513F#32
  | 63 => 0x3F508D43#32
  | 64 => 0x3F15CACC#32
  | 65 => 0xBF84CDF4#32
  | 66 => 0x3F66F5B6#32
  | 67 => 0x3FF01279#32
  | 68 => 0x3F85C7AA#32
  | 69 => 0x3E9F9FF8#32
  | 70 => 0xBEB31AC0#32
  | 71 => 0x3E2758C3#32
  | 72 => 0x3FA9DDF8#32
  | 73 => 0x400D3432#32
  | 74 => 0xBF680DA2#32
  | 75 => 0xBE0EE08C#32
  | 76 => 0x3FD0A669#32
  | 77 => 0x3F452C7A#32
  | 78 => 0x3D1AB86E#32
  | 79 => 0x3E075386#32
  | 80 => 0xBF64579A#32
  | 81 => 0x400415ED#32
  | 82 => 0x4027BD92#32
  | 83 => 0xBF4DBCB5#32
  | 84 => 0x3F82DB1E#32
  | 85 => 0x3FED790F#32
  | 86 => 0xBE1CBDD4#32
  | 87 => 0x3E8CE21C#32
  | 88 => 0x40266E82#32
  | 89 => 0x3E61B530#32
  | 90 => 0x3F0C032C#32
  | 91 => 0x3E87B3CD#32
  | 92 => 0xBF4E93BC#32
  | 93 => 0x3FB7DA92#32
  | 94 => 0x3F983309#32
  | 95 => 0x3DC3784D#32
  | 96 => 0x3FA807B0#32
  | 97 => 0xBF071132#32
  | 98 => 0x3FFE6E22#32
  | 99 => 0xBE4BD825#32
  | 100 => 0x3ED8A28D#32
  | 101 => 0xBF695F56#32
  | 102 => 0x3FDD2DE2#32
  | 103 => 0xBED08A61#32
  | 104 => 0xBE92C7C3#32
  | 105 => 0x3FA76BEC#32
  | 106 => 0x3F8F48CE#32
  | 107 => 0x3FE46A55#32
  | 108 => 0xBE89C9E9#32
  | 109 => 0x401B4A4C#32
  | 110 => 0x3F87823C#32
  | 111 => 0x3E4D01C7#32
  | 112 => 0x3F350863#32
  | 113 => 0x401A911F#32
  | 114 => 0xBDE61867#32
  | 115 => 0xBF014125#32
  | 116 => 0xBE0C2451#32
  | 117 => 0xBF5CE1C7#32
  | 118 => 0x3F74532E#32
  | 119 => 0x3F3985F0#32
  | 120 => 0x3F7BAF78#32
  | 121 => 0x3EB89045#32
  | 122 => 0xBF2235D6#32
  | 123 => 0x3ED778E5#32
  | 124 => 0xBF2FB48E#32
  | 125 => 0x400C0BFA#32
  | 126 => 0x3F854181#32
  | 127 => 0x3FDFDFC9#32
  | _ => 0#32

noncomputable abbrev lit0t0_912 (i : Nat) : BitVec 32 := match i % 128 with
  | 0 => 0x3F874BDA#32
  | 1 => 0x400E754C#32
  | 2 => 0x3F0026FB#32
  | 3 => 0xBF89137B#32
  | 4 => 0xBDBC503B#32
  | 5 => 0x3D8631CB#32
  | 6 => 0x3F191158#32
  | 7 => 0x3F63BF98#32
  | 8 => 0x3F722262#32
  | 9 => 0xBF8231B4#32
  | 10 => 0x3FBDCE18#32
  | 11 => 0x3FBA7494#32
  | 12 => 0xBFBEC0FB#32
  | 13 => 0xBEECC326#32
  | 14 => 0x3F9E2CA1#32
  | 15 => 0x3F3B9440#32
  | 16 => 0xBF9A2BCB#32
  | 17 => 0xBF02DD4E#32
  | 18 => 0x3F517CA0#32
  | 19 => 0x3DE7C319#32
  | 20 => 0x3F6C5FA2#32
  | 21 => 0x40359B35#32
  | 22 => 0x4037E9C7#32
  | 23 => 0x3FA93D49#32
  | 24 => 0xBEE2032E#32
  | 25 => 0x3DBD782C#32
  | 26 => 0xBF98BE8C#32
  | 27 => 0x3F0BD665#32
  | 28 => 0x3F347DDF#32
  | 29 => 0x3EAA350F#32
  | 30 => 0xBD387441#32
  | 31 => 0x3F761B62#32
  | 32 => 0xBE700AAD#32
  | 33 => 0x3FC812EE#32
  | 34 => 0xBE41A69A#32
  | 35 => 0xBFDEE807#32
  | 36 => 0x3E16CB5E#32
  | 37 => 0x3F56387E#32
  | 38 => 0x409424D2#32
  | 39 => 0xBF9698BB#32
  | 40 => 0x3ED59F94#32
  | 41 => 0xBF8ED98E#32
  | 42 => 0xBF0826A4#32
  | 43 => 0xBF19DBC2#32
  | 44 => 0x3FED42ED#32
  | 45 => 0x3F860B16#32
  | 46 => 0x3F919854#32
  | 47 => 0x404EC19C#32
  | 48 => 0x3F53DC66#32
  | 49 => 0x40005056#32
  | 50 => 0x3FBD3FF1#32
  | 51 => 0x3B97E3FB#32
  | 52 => 0x3EE3BF1D#32
  | 53 => 0x3F5B4EA6#32
  | 54 => 0x402FDE09#32
  | 55 => 0xBCDF46AF#32
  | 56 => 0xBFBD5153#32
  | 57 => 0x3D046E54#32
  | 58 => 0x3DE35AD6#32
  | 59 => 0x40289F8B#32
  | 60 => 0x408AB1F3#32
  | 61 => 0x3EF19945#32
  | 62 => 0xBF757BE1#32
  | 63 => 0x40123210#32
  | 64 => 0xBF8576E5#32
  | 65 => 0xBF76B1CD#32
  | 66 => 0x3F04996C#32
  | 67 => 0x3D07BA20#32
  | 68 => 0x3F393E4E#32
  | 69 => 0x3DF23BE3#32
  | 70 => 0x3DEF7181#32
  | 71 => 0x3F0BD55B#32
  | 72 => 0x4006DF02#32
  | 73 => 0xBE321908#32
  | 74 => 0xBE5108F0#32
  | 75 => 0x3F82291E#32
  | 76 => 0x3E3B4D0E#32
  | 77 => 0x3FD23E94#32
  | 78 => 0x4019DBBA#32
  | 79 => 0xBF5E4B13#32
  | 80 => 0xBF6E9089#32
  | 81 => 0x3EC782DE#32
  | 82 => 0x3FBE23D8#32
  | 83 => 0x3F8C0C98#32
  | 84 => 0x3E90F8E2#32
  | 85 => 0x3B06ED88#32
  | 86 => 0x3F44AE69#32
  | 87 => 0xBF0715F7#32
  | 88 => 0x3E94C268#32
  | 89 => 0x40546262#32
  | 90 => 0x4021D60D#32
  | 91 => 0xBED91666#32
  | 92 => 0xBE698CF9#32
  | 93 => 0x3F8C7E30#32
  | 94 => 0x3F955D7F#32
  | 95 => 0xBF02B25F#32
  | 96 => 0xBEA7DE8A#32
  | 97 => 0x406C48DC#32
  | 98 => 0x4029608A#32
  | 99 => 0x3F8E70AA#32
  | 100 => 0x3FE2FE35#32
  | 101 => 0xBF3E50F7#32
  | 102 => 0x3EAFF3FC#32
  | 103 => 0x3EF96288#32
  | 104 => 0xBF3E1B8E#32
  | 105 => 0x3F43A149#32
  | 106 => 0x3D8F7844#32
  | 107 => 0xBFBA27E9#32
  | 108 => 0x3CFC2CC2#32
  | 109 => 0xBEA5704A#32
  | 110 => 0x3F8BE914#32
  | 111 => 0xBDAE6399#32
  | 112 => 0xBE98F2D7#32
  | 113 => 0xBEEB5004#32
  | 114 => 0xBFA6B8E0#32
  | 115 => 0x3DD701BD#32
  | 116 => 0x3F727610#32
  | 117 => 0x3F93AA81#32
  | 118 => 0xBFC15F7C#32
  | 119 => 0x3E24CD90#32
  | 120 => 0xBF7C5A82#32
  | 121 => 0x3ED1A774#32
  | 122 => 0xBF8B905B#32
  | 123 => 0xBF054378#32
  | 124 => 0x3FDE39F6#32
  | 125 => 0x3FD3027F#32
  | 126 => 0x3E02ECB8#32
  | 127 => 0xBF1673DF#32
  | _ => 0#32

noncomputable abbrev lit0t0_913 (i : Nat) : BitVec 32 := match i % 128 with
  | 0 => 0xBF155D62#32
  | 1 => 0x3FA11B8C#32
  | 2 => 0xBE4D97C5#32
  | 3 => 0x3FB8FEFD#32
  | 4 => 0x3F8B913F#32
  | 5 => 0x3F18DF97#32
  | 6 => 0xBEAA25B8#32
  | 7 => 0x3F903720#32
  | 8 => 0x3F665503#32
  | 9 => 0xBDC9AEE3#32
  | 10 => 0x3F5A1794#32
  | 11 => 0x40848B65#32
  | 12 => 0xBE9ED1A2#32
  | 13 => 0x3FA3829B#32
  | 14 => 0xBFA58A75#32
  | 15 => 0x3FDB9C4A#32
  | 16 => 0x4004D172#32
  | 17 => 0xBEF56A52#32
  | 18 => 0x3F9C5BCD#32
  | 19 => 0x3F8F74CF#32
  | 20 => 0xBF1DC1C7#32
  | 21 => 0x3F42D478#32
  | 22 => 0x3EE4E890#32
  | 23 => 0x3D0BCD30#32
  | 24 => 0xBEBDEE1E#32
  | 25 => 0xBF6C826D#32
  | 26 => 0x3FB569C4#32
  | 27 => 0x3FFB4BC7#32
  | 28 => 0x3FD53755#32
  | 29 => 0xBF2BC08B#32
  | 30 => 0x3E7BD9FF#32
  | 31 => 0x3F30D099#32
  | 32 => 0x3D8F76ED#32
  | 33 => 0xBFBB7C09#32
  | 34 => 0x3F915BF2#32
  | 35 => 0xBEDE2532#32
  | 36 => 0x3F4758C6#32
  | 37 => 0x4033DF19#32
  | 38 => 0x40907CB2#32
  | 39 => 0x3F3B147B#32
  | 40 => 0xBFC84C39#32
  | 41 => 0xBF89F170#32
  | 42 => 0x3F860653#32
  | 43 => 0x3F076689#32
  | 44 => 0x3FE278CB#32
  | 45 => 0xBF342838#32
  | 46 => 0x3DED3813#32
  | 47 => 0xBEA4E7F2#32
  | 48 => 0xBF9ADB41#32
  | 49 => 0xBF38F82D#32
  | 50 => 0x3FB5F19B#32
  | 51 => 0x3EAD5FBC#32
  | 52 => 0xBE7B2D67#32
  | 53 => 0x401121A4#32
  | 54 => 0xBF588979#32
  | 55 => 0x3E9CAE44#32
  | 56 => 0x3FF58B24#32
  | 57 => 0xBEAA7A3B#32
  | 58 => 0xBF915B98#32
  | 59 => 0x400A513A#32
  | 60 => 0x3F8335F5#32
  | 61 => 0xBDC97F23#32
  | 62 => 0x3E3150A0#32
  | 63 => 0x3E983C31#32
  | 64 => 0x40097336#32
  | 65 => 0x3FAF1AA3#32
  | 66 => 0x402A27A5#32
  | 67 => 0x3F750516#32
  | 68 => 0x3FE0BFE2#32
  | 69 => 0xBED9DAEB#32
  | 70 => 0xBF363494#32
  | 71 => 0xBF7EB9FD#32
  | 72 => 0x3F2A21D4#32
  | 73 => 0x3F94C551#32
  | 74 => 0x4026230A#32
  | 75 => 0x4015F901#32
  | 76 => 0x3FA554C4#32
  | 77 => 0x3F572F11#32
  | 78 => 0xBDB33CB0#32
  | 79 => 0x3F8A3A71#32
  | 80 => 0x3FA6D50D#32
  | 81 => 0x3FC5035A#32
  | 82 => 0xBDD41E71#32
  | 83 => 0x40462427#32
  | 84 => 0x3FF16C26#32
  | 85 => 0xBF74F664#32
  | 86 => 0x3FA0A22D#32
  | 87 => 0xBE1BEE93#32
  | 88 => 0xBF090C36#32
  | 89 => 0x3F0FD6F4#32
  | 90 => 0xBF74BA4E#32
  | 91 => 0x3F904A1C#32
  | 92 => 0x3E2F1029#32
  | 93 => 0x3F9DBD97#32
  | 94 => 0x3F55DEB6#32
  | 95 => 0xBE8CC473#32
  | 96 => 0xBF6DEE49#32
  | 97 => 0xBF4B15EB#32
  | 98 => 0x3F1D6AFE#32
  | 99 => 0x3E217B00#32
  | 100 => 0x3FF4933D#32
  | 101 => 0x3F681CB2#32
  | 102 => 0x3F3FA944#32
  | 103 => 0x3F1D295A#32
  | 104 => 0xBF149F3C#32
  | 105 => 0xBF985F86#32
  | 106 => 0x3EA11715#32
  | 107 => 0xBF00BDE4#32
  | 108 => 0xBFBE4BA6#32
  | 109 => 0x3EFB16D4#32
  | 110 => 0xBE632CAC#32
  | 111 => 0x3FACB44B#32
  | 112 => 0x3F084070#32
  | 113 => 0x3F55C4B1#32
  | 114 => 0x3F239169#32
  | 115 => 0xBF6C3C0E#32
  | 116 => 0x3FD1AA51#32
  | 117 => 0x4060432A#32
  | 118 => 0xBF6AC832#32
  | 119 => 0x3CA9418D#32
  | 120 => 0x408937CE#32
  | 121 => 0x40CF0B5E#32
  | 122 => 0xBEA82426#32
  | 123 => 0x3FE6712E#32
  | 124 => 0x3ECCF392#32
  | 125 => 0x404ED43A#32
  | 126 => 0x3EBB229B#32
  | 127 => 0xBF1D1008#32
  | _ => 0#32

noncomputable abbrev lit0t0_914 (i : Nat) : BitVec 32 := match i % 128 with
  | 0 => 0x40448B94#32
  | 1 => 0xBEF0D647#32
  | 2 => 0xBF395735#32
  | 3 => 0xBF9801D8#32
  | 4 => 0x3D453F3A#32
  | 5 => 0xBFC3FC24#32
  | 6 => 0x40807A70#32
  | 7 => 0x3E1ECDBA#32
  | 8 => 0x3FA73F51#32
  | 9 => 0x3E895DE1#32
  | 10 => 0xBF359098#32
  | 11 => 0xBEA2BF7E#32
  | 12 => 0xBE2F647F#32
  | 13 => 0x3FB2A2BD#32
  | 14 => 0xBE87BB27#32
  | 15 => 0x403E0530#32
  | 16 => 0x40256300#32
  | 17 => 0xBEA6159D#32
  | 18 => 0xBF27096C#32
  | 19 => 0x40049C5B#32
  | 20 => 0x3D803D82#32
  | 21 => 0x3FADBB3D#32
  | 22 => 0xBFC88F5A#32
  | 23 => 0xBFABC4CD#32
  | 24 => 0x3EB04809#32
  | 25 => 0xBF8837D5#32
  | 26 => 0xBD2FEA50#32
  | 27 => 0x3EFF49B9#32
  | 28 => 0xBF2B8BB8#32
  | 29 => 0xBF39362C#32
  | 30 => 0x3EBB6C41#32
  | 31 => 0xBFB08494#32
  | 32 => 0xBFA092A6#32
  | 33 => 0xBD9F15CB#32
  | 34 => 0x3F2D1B5F#32
  | 35 => 0x3F8AE3B0#32
  | 36 => 0x3FE3A324#32
  | 37 => 0xBFE7D3EC#32
  | 38 => 0x3F03CAE8#32
  | 39 => 0x3D09DC30#32
  | 40 => 0x40279922#32
  | 41 => 0xBF54AA5C#32
  | 42 => 0xBF10BB58#32
  | 43 => 0xBE2B0DDD#32
  | 44 => 0xBDC6A282#32
  | 45 => 0x3DD4628B#32
  | 46 => 0x3FE24204#32
  | 47 => 0x3CA31264#32
  | 48 => 0xBEC2BBBF#32
  | 49 => 0x40297A14#32
  | 50 => 0x40236948#32
  | 51 => 0x3F7E531A#32
  | 52 => 0xBF302256#32
  | 53 => 0x3FBCBE78#32
  | 54 => 0x3D1400FD#32
  | 55 => 0xBECF874F#32
  | 56 => 0x4033E233#32
  | 57 => 0x3F68CD72#32
  | 58 => 0x3F20CC62#32
  | 59 => 0xBF815616#32
  | 60 => 0x409C0568#32
  | 61 => 0xBF5CC76A#32
  | 62 => 0x401148B8#32
  | 63 => 0xBF462DFB#32
  | 64 => 0xBF2627A9#32
  | 65 => 0x400B2576#32
  | 66 => 0xBF57D97D#32
  | 67 => 0xBF17EDAA#32
  | 68 => 0x3F915F6A#32
  | 69 => 0x3EDC4B83#32
  | 70 => 0x3DADF7A1#32
  | 71 => 0xBF2127B0#32
  | 72 => 0xBDF2163E#32
  | 73 => 0x3DF78C60#32
  | 74 => 0x3F3A58FF#32
  | 75 => 0x40025C8A#32
  | 76 => 0xBF4933EF#32
  | 77 => 0x3DE517DC#32
  | 78 => 0x3F8E9CC8#32
  | 79 => 0x402F20AD#32
  | 80 => 0x3B779B98#32
  | 81 => 0x3D9FFB7B#32
  | 82 => 0x3FDE5455#32
  | 83 => 0x3F8556E0#32
  | 84 => 0x3FAC79D2#32
  | 85 => 0x40455A2D#32
  | 86 => 0x3E098495#32
  | 87 => 0x3FB0F388#32
  | 88 => 0x3EBB7F48#32
  | 89 => 0x3FBB0D24#32
  | 90 => 0x400A2DE4#32
  | 91 => 0xBF7560A2#32
  | 92 => 0x4031C3B8#32
  | 93 => 0xBEA08CDE#32
  | 94 => 0x3FD7A5CF#32
  | 95 => 0x3E533801#32
  | 96 => 0x3F27FCC9#32
  | 97 => 0xBF9CC0FA#32
  | 98 => 0xBF6464DD#32
  | 99 => 0xBEBEF01D#32
  | 100 => 0xBE364859#32
  | 101 => 0x40708C94#32
  | 102 => 0x4093BB99#32
  | 103 => 0xBE23B63D#32
  | 104 => 0xBEE38897#32
  | 105 => 0x4014E49E#32
  | 106 => 0x3EB9F577#32
  | 107 => 0xBF33EDF4#32
  | 108 => 0x40389207#32
  | 109 => 0x3FE0AE78#32
  | 110 => 0x4024D866#32
  | 111 => 0x3FF44B29#32
  | 112 => 0x3F989297#32
  | 113 => 0x40402C4C#32
  | 114 => 0xBED033FE#32
  | 115 => 0x3F3FC3A4#32
  | 116 => 0x3DC3EE60#32
  | 117 => 0xBE2CA8B2#32
  | 118 => 0xBE9971B0#32
  | 119 => 0x3DEEC831#32
  | 120 => 0x3EF87BB2#32
  | 121 => 0x40070505#32
  | 122 => 0x3F98D9F7#32
  | 123 => 0xBF0B97D6#32
  | 124 => 0xBF7F9940#32
  | 125 => 0x3F72F842#32
  | 126 => 0x4061A211#32
  | 127 => 0x40832971#32
  | _ => 0#32

noncomputable abbrev lit0t0_915 (i : Nat) : BitVec 32 := match i % 128 with
  | 0 => 0xBF2DB22E#32
  | 1 => 0xBF6EE9A1#32
  | 2 => 0x3DFE2867#32
  | 3 => 0x3F7F1F5E#32
  | 4 => 0xBFD5EA59#32
  | 5 => 0xBF3BBAD5#32
  | 6 => 0xBE2EDE42#32
  | 7 => 0xBE2B855B#32
  | 8 => 0x3E8A8672#32
  | 9 => 0x3FC35F02#32
  | 10 => 0x3FC035FE#32
  | 11 => 0x3FE01B9D#32
  | 12 => 0x3F89344A#32
  | 13 => 0x3DB491BC#32
  | 14 => 0x40517D46#32
  | 15 => 0xBE1A4760#32
  | 16 => 0x402E0169#32
  | 17 => 0x3F8F62D5#32
  | 18 => 0x3E101DE9#32
  | 19 => 0x3F2AA4F6#32
  | 20 => 0x3E1B7532#32
  | 21 => 0x400D4461#32
  | 22 => 0x3FBFE0F4#32
  | 23 => 0xBFB107F5#32
  | 24 => 0x3D9A49B1#32
  | 25 => 0x3F0F672D#32
  | 26 => 0x3F11113E#32
  | 27 => 0x40A9F430#32
  | 28 => 0x3F5DE490#32
  | 29 => 0x3F97BA62#32
  | 30 => 0x3E4C3E46#32
  | 31 => 0x3F39E78A#32
  | 32 => 0x4028982C#32
  | 33 => 0x403CB143#32
  | 34 => 0x3F8A8678#32
  | 35 => 0x3DAA9DCB#32
  | 36 => 0x405FE354#32
  | 37 => 0x3F2ADDCE#32
  | 38 => 0xBF06D3F7#32
  | 39 => 0x3DDD1F82#32
  | 40 => 0x3F61BA90#32
  | 41 => 0xBF306BA2#32
  | 42 => 0x3EEEA012#32
  | 43 => 0x3F5DBE6D#32
  | 44 => 0xBEA041E9#32
  | 45 => 0x3E0DAD20#32
  | 46 => 0x4042C5A1#32
  | 47 => 0xBE8DA61F#32
  | 48 => 0x3F19C7AD#32
  | 49 => 0xBF8E80AC#32
  | 50 => 0x4058E3AE#32
  | 51 => 0xBDBDEA4F#32
  | 52 => 0x3F18F5A0#32
  | 53 => 0x3F64FC9C#32
  | 54 => 0xBF912412#32
  | 55 => 0x3E3334B9#32
  | 56 => 0x400A231B#32
  | 57 => 0xBFA4C0BA#32
  | 58 => 0x3FBAF3D5#32
  | 59 => 0x3E964128#32
  | 60 => 0x3F31716C#32
  | 61 => 0x40280DBF#32
  | 62 => 0x3F20384D#32
  | 63 => 0xBE0576F5#32
  | 64 => 0x401C74DD#32
  | 65 => 0x3F20E80C#32
  | 66 => 0x3F7D9923#32
  | 67 => 0x3F9E5CDC#32
  | 68 => 0x3FADABB6#32
  | 69 => 0x3E92FE29#32
  | 70 => 0x3EAD79C2#32
  | 71 => 0xBD422B1E#32
  | 72 => 0x3FEBC5FF#32
  | 73 => 0xBE9F37AC#32
  | 74 => 0x3E6907C3#32
  | 75 => 0xBD88ACD5#32
  | 76 => 0xBE92E08F#32
  | 77 => 0xBF811B76#32
  | 78 => 0x3FC219A9#32
  | 79 => 0xBF8ABB8C#32
  | 80 => 0x3F5B4FE4#32
  | 81 => 0x3F2C95BB#32
  | 82 => 0x3F95814F#32
  | 83 => 0x3EC4A8E6#32
  | 84 => 0x3F3A2FDC#32
  | 85 => 0xBEF475A2#32
  | 86 => 0x3EA341EA#32
  | 87 => 0xBF8241AA#32
  | 88 => 0x3DF9FD38#32
  | 89 => 0x3F094064#32
  | 90 => 0xBF56F781#32
  | 91 => 0x3FF1043F#32
  | 92 => 0x3F364696#32
  | 93 => 0x4001A0CE#32
  | 94 => 0x3F79B1FE#32
  | 95 => 0x3F0FD1C4#32
  | 96 => 0x3DD04BBF#32
  | 97 => 0xBF09AE71#32
  | 98 => 0x3FB2D3F5#32
  | 99 => 0x3E822C5E#32
  | 100 => 0xBF693461#32
  | 101 => 0xBEF38D8C#32
  | 102 => 0x3FC8FE94#32
  | 103 => 0x3EC8B3FB#32
  | 104 => 0xBDC0B324#32
  | 105 => 0x3F186FB7#32
  | 106 => 0xBF8A88AC#32
  | 107 => 0x3F6637BC#32
  | 108 => 0xBE7CA403#32
  | 109 => 0xBF8F1168#32
  | 110 => 0x3FBD8BC9#32
  | 111 => 0xBF39644A#32
  | 112 => 0x3F5935AA#32
  | 113 => 0xBE38B307#32
  | 114 => 0x4012384E#32
  | 115 => 0x3FF180A0#32
  | 116 => 0x3FF146D1#32
  | 117 => 0x3F578B43#32
  | 118 => 0x3EBE67E2#32
  | 119 => 0x3F590DF7#32
  | 120 => 0x3FCA21D8#32
  | 121 => 0x3F184F10#32
  | 122 => 0x3FFBE582#32
  | 123 => 0x3F9EA459#32
  | 124 => 0xBBF48BD0#32
  | 125 => 0x40109D19#32
  | 126 => 0x3F705DAA#32
  | 127 => 0x3E972152#32
  | _ => 0#32

noncomputable abbrev lit0t0_916 (i : Nat) : BitVec 32 := match i % 128 with
  | 0 => 0xBF197567#32
  | 1 => 0xBE7B1317#32
  | 2 => 0x3F9007C8#32
  | 3 => 0x3F372832#32
  | 4 => 0x40823D56#32
  | 5 => 0x3F9F52DE#32
  | 6 => 0x3FF1F6A4#32
  | 7 => 0x3F6A0B59#32
  | 8 => 0xBEC70631#32
  | 9 => 0xBBFF34EC#32
  | 10 => 0xBF7B088D#32
  | 11 => 0x40612EE9#32
  | 12 => 0x3FF29A9A#32
  | 13 => 0xBF41D186#32
  | 14 => 0x4000DF50#32
  | 15 => 0x3FA1B988#32
  | 16 => 0xBF73C1FE#32
  | 17 => 0x3FD50A3A#32
  | 18 => 0x3E9274FD#32
  | 19 => 0x3F928C70#32
  | 20 => 0xBF1D5B90#32
  | 21 => 0x3F9DB036#32
  | 22 => 0xBF46074B#32
  | 23 => 0x3F9B5400#32
  | 24 => 0x3FC26389#32
  | 25 => 0xBF9A7662#32
  | 26 => 0x3F62AFD2#32
  | 27 => 0x402D7E07#32
  | 28 => 0x3FC4B67C#32
  | 29 => 0x3EAA59F9#32
  | 30 => 0x3EA4013C#32
  | 31 => 0x3FCD7C59#32
  | 32 => 0x3F9C047A#32
  | 33 => 0x3F30A0AA#32
  | 34 => 0xBF483897#32
  | 35 => 0x3E5D994D#32
  | 36 => 0x3F3EDB73#32
  | 37 => 0xBEE438DA#32
  | 38 => 0xBF6A54B3#32
  | 39 => 0x3EAB90EC#32
  | 40 => 0x3FDA74AA#32
  | 41 => 0x40993ECB#32
  | 42 => 0x3EA76F4E#32
  | 43 => 0x3F3FF79E#32
  | 44 => 0xBF744CD1#32
  | 45 => 0x40CF1BCD#32
  | 46 => 0x401B8E9E#32
  | 47 => 0x4039AEB5#32
  | 48 => 0xBE107ABB#32
  | 49 => 0xBF54AEFD#32
  | 50 => 0x3EBF8CA8#32
  | 51 => 0xBF3C85B8#32
  | 52 => 0x3FE68568#32
  | 53 => 0x40509EB0#32
  | 54 => 0xBEA81149#32
  | 55 => 0x3FC36442#32
  | 56 => 0xBEE7DEFC#32
  | 57 => 0x3FD843A0#32
  | 58 => 0x3F3B329C#32
  | 59 => 0x3E9EBBD0#32
  | 60 => 0x3F68D3B6#32
  | 61 => 0xBFA6BE62#32
  | 62 => 0x3D9C5A5D#32
  | 63 => 0x3F303E61#32
  | 64 => 0x3EEA00FE#32
  | 65 => 0x3E9FA3BE#32
  | 66 => 0xBF25E130#32
  | 67 => 0xBF609478#32
  | 68 => 0x3FEB650E#32
  | 69 => 0x3EF0E26E#32
  | 70 => 0x3FC38917#32
  | 71 => 0x3FC18E48#32
  | 72 => 0xBE2BCC78#32
  | 73 => 0x3FC56BAD#32
  | 74 => 0xBF967753#32
  | 75 => 0x3E423C4B#32
  | 76 => 0xBF39A031#32
  | 77 => 0x3F459252#32
  | 78 => 0x3FEF8958#32
  | 79 => 0x3EC1A7F3#32
  | 80 => 0x406D178F#32
  | 81 => 0xBE4C78AA#32
  | 82 => 0x3FE94620#32
  | 83 => 0x3EEA0AA8#32
  | 84 => 0x40783B14#32
  | 85 => 0x3F3C879B#32
  | 86 => 0xBEA53CE2#32
  | 87 => 0xBF6502EC#32
  | 88 => 0x3DDFAD64#32
  | 89 => 0xBE9B8FE1#32
  | 90 => 0x3E7F4872#32
  | 91 => 0x3FDE5DAC#32
  | 92 => 0x3D928523#32
  | 93 => 0xBE8C63A2#32
  | 94 => 0x3FB9BA84#32
  | 95 => 0xBE5F1238#32
  | 96 => 0xBE05C8CC#32
  | 97 => 0x3F4A1E4E#32
  | 98 => 0xBE00AADE#32
  | 99 => 0xBF32AA2D#32
  | 100 => 0x4092FF4E#32
  | 101 => 0x3FEDF13D#32
  | 102 => 0xBF43E948#32
  | 103 => 0xBF878EE2#32
  | 104 => 0x3D42F781#32
  | 105 => 0xBE410C80#32
  | 106 => 0x3E19A8C0#32
  | 107 => 0xBE16936F#32
  | 108 => 0xBE9258A1#32
  | 109 => 0x3F9BE536#32
  | 110 => 0x3EB21AF3#32
  | 111 => 0x401317F0#32
  | 112 => 0xBF3B54DE#32
  | 113 => 0xBFA81A4B#32
  | 114 => 0x4012B981#32
  | 115 => 0xBF34E34B#32
  | 116 => 0x3F8887D6#32
  | 117 => 0x3EA5BDBC#32
  | 118 => 0x3FD09B4E#32
  | 119 => 0x3F7C05E7#32
  | 120 => 0xBD9C4A6C#32
  | 121 => 0x3EE424CC#32
  | 122 => 0x40602B9F#32
  | 123 => 0xBF5DD03B#32
  | 124 => 0x3E1ABFBD#32
  | 125 => 0x400067B2#32
  | 126 => 0x3FB4BC25#32
  | 127 => 0x408D7D17#32
  | _ => 0#32

noncomputable abbrev lit0t0_917 (i : Nat) : BitVec 32 := match i % 128 with
  | 0 => 0xBF6067C6#32
  | 1 => 0x3ED7980D#32
  | 2 => 0xBF08504B#32
  | 3 => 0xBF352FDA#32
  | 4 => 0xBF3C0477#32
  | 5 => 0x3F80B11D#32
  | 6 => 0xBEBED6D6#32
  | 7 => 0x3F685A38#32
  | 8 => 0x3ED2AEFC#32
  | 9 => 0xBF647FCE#32
  | 10 => 0x404D0655#32
  | 11 => 0x3F56B7DA#32
  | 12 => 0x3F6AFF86#32
  | 13 => 0x3F110466#32
  | 14 => 0x404E3B8A#32
  | 15 => 0x3FAD0D84#32
  | 16 => 0x3FCF18C6#32
  | 17 => 0xBEF1E67E#32
  | 18 => 0xBF7905ED#32
  | 19 => 0xBF1816BF#32
  | 20 => 0xBDA2B3CC#32
  | 21 => 0x3F4F0B48#32
  | 22 => 0x3FEFD393#32
  | 23 => 0x404327DF#32
  | 24 => 0x3F427FC4#32
  | 25 => 0xBF5FA49A#32
  | 26 => 0xBEB354DD#32
  | 27 => 0x3F322FE9#32
  | 28 => 0xBF35C324#32
  | 29 => 0x3E5528E0#32
  | 30 => 0x408F4D58#32
  | 31 => 0x3F7DE932#32
  | 32 => 0x3F488F78#32
  | 33 => 0x3FA082B8#32
  | 34 => 0xBE88A6BC#32
  | 35 => 0x3E966659#32
  | 36 => 0x3FA79B60#32
  | 37 => 0xBF10A679#32
  | 38 => 0x3F0AE104#32
  | 39 => 0xBF0681D1#32
  | 40 => 0x3FECF1B5#32
  | 41 => 0x3E9FDBED#32
  | 42 => 0x3F4C94BB#32
  | 43 => 0xBEBDCAFF#32
  | 44 => 0x3F197BF7#32
  | 45 => 0xBFD4A4EA#32
  | 46 => 0xBE894182#32
  | 47 => 0x3B9879AD#32
  | 48 => 0x3FD7E5D8#32
  | 49 => 0xBF9E6097#32
  | 50 => 0xBEA67AFC#32
  | 51 => 0x3E02CF48#32
  | 52 => 0x3D16ABBF#32
  | 53 => 0x4037DC6E#32
  | 54 => 0x3F9033CE#32
  | 55 => 0xBF8960BE#32
  | 56 => 0x4021864D#32
  | 57 => 0x3FAE272D#32
  | 58 => 0xBF7F5B7E#32
  | 59 => 0xBE189080#32
  | 60 => 0xBF144CDB#32
  | 61 => 0x4096A2D7#32
  | 62 => 0xBF8C681D#32
  | 63 => 0xBF6EDEE4#32
  | 64 => 0x3F11DD96#32
  | 65 => 0xBE92266E#32
  | 66 => 0x3F155751#32
  | 67 => 0x3F30F485#32
  | 68 => 0x406A53E9#32
  | 69 => 0x3F51EC9B#32
  | 70 => 0xBEABD66C#32
  | 71 => 0x3FC75268#32
  | 72 => 0x3E3D07E3#32
  | 73 => 0x3F52ACF5#32
  | 74 => 0xBF0D79F8#32
  | 75 => 0x3F6D62D8#32
  | 76 => 0x40281A3A#32
  | 77 => 0x3FEF5483#32
  | 78 => 0x400FE260#32
  | 79 => 0x3FBE3705#32
  | 80 => 0x3FE83E3A#32
  | 81 => 0xBEB493EA#32
  | 82 => 0xBE932783#32
  | 83 => 0x3F1B001C#32
  | 84 => 0xBF334692#32
  | 85 => 0xBECAF18E#32
  | 86 => 0xBF73FAEE#32
  | 87 => 0x3E405242#32
  | 88 => 0xBF7DD46A#32
  | 89 => 0xBECFB2A1#32
  | 90 => 0x40570BED#32
  | 91 => 0xBE84B89A#32
  | 92 => 0x3FD0D596#32
  | 93 => 0x400E9AE7#32
  | 94 => 0xBE81BCD7#32
  | 95 => 0x3F0A13AD#32
  | 96 => 0xBF905A40#32
  | 97 => 0x3FB39989#32
  | 98 => 0xBFA591CD#32
  | 99 => 0x3FEF4CBD#32
  | 100 => 0x3F12DCC3#32
  | 101 => 0x4005C319#32
  | 102 => 0x3F84F73E#32
  | 103 => 0x3AF956AD#32
  | 104 => 0x3E132677#32
  | 105 => 0x3EE7B90C#32
  | 106 => 0xBFDB6B34#32
  | 107 => 0xBDC35736#32
  | 108 => 0x3FDEA12A#32
  | 109 => 0x3F2A28E4#32
  | 110 => 0x4080FD4B#32
  | 111 => 0x4031C9D7#32
  | 112 => 0x3EA74687#32
  | 113 => 0x3DB21068#32
  | 114 => 0x3F531C2E#32
  | 115 => 0xBD87E442#32
  | 116 => 0x3F61DC33#32
  | 117 => 0xBF2DEC0B#32
  | 118 => 0x3E921750#32
  | 119 => 0x3FC9D671#32
  | 120 => 0x3FF955EB#32
  | 121 => 0x3EC01D91#32
  | 122 => 0x3F8D818E#32
  | 123 => 0xBE463F02#32
  | 124 => 0xBF433EE0#32
  | 125 => 0x3F75259E#32
  | 126 => 0x3FB59B06#32
  | 127 => 0xBF81C46C#32
  | _ => 0#32

noncomputable abbrev lit0t0_918 (i : Nat) : BitVec 32 := match i % 128 with
  | 0 => 0xBE3015BA#32
  | 1 => 0x3F3FCF63#32
  | 2 => 0x3E9C727E#32
  | 3 => 0xBEE5BBAC#32
  | 4 => 0x3FE2C7F4#32
  | 5 => 0xBE38FCD4#32
  | 6 => 0x3FBE8565#32
  | 7 => 0xBDB8E02E#32
  | 8 => 0x3F91D2B3#32
  | 9 => 0x401BEF03#32
  | 10 => 0xBF5182E8#32
  | 11 => 0xBF32CBCC#32
  | 12 => 0x3E1C8F02#32
  | 13 => 0xBEA3CE31#32
  | 14 => 0x3EBCB1ED#32
  | 15 => 0x3F268AA4#32
  | 16 => 0x4021A299#32
  | 17 => 0x3F2C1A6F#32
  | 18 => 0xBF61C294#32
  | 19 => 0x4003D47A#32
  | 20 => 0xBEE6A0F2#32
  | 21 => 0xBFE93439#32
  | 22 => 0xBE940018#32
  | 23 => 0xBF360254#32
  | 24 => 0xBEA5D8B7#32
  | 25 => 0xBED71E15#32
  | 26 => 0x40450E0A#32
  | 27 => 0xBE46BF35#32
  | 28 => 0xBD9A292C#32
  | 29 => 0x3EBC3261#32
  | 30 => 0x3F70F04E#32
  | 31 => 0x3F4EEB9B#32
  | 32 => 0x3E3AA78A#32
  | 33 => 0x3EF83230#32
  | 34 => 0x3F703930#32
  | 35 => 0x3D8B432D#32
  | 36 => 0x3ED45523#32
  | 37 => 0x3EC81F1F#32
  | 38 => 0xBEE0EAAF#32
  | 39 => 0x40208E84#32
  | 40 => 0x3DB4A68E#32
  | 41 => 0xBF2CE0A9#32
  | 42 => 0xBE3BF327#32
  | 43 => 0xBF0FD89D#32
  | 44 => 0x3E8CBBAE#32
  | 45 => 0xBF6BC95F#32
  | 46 => 0x400F35F4#32
  | 47 => 0x3E130623#32
  | 48 => 0x3E6C0AEA#32
  | 49 => 0x3EF547C7#32
  | 50 => 0x3FA281D6#32
  | 51 => 0x3F1DE177#32
  | 52 => 0x3F0374F9#32
  | 53 => 0xBF56CB65#32
  | 54 => 0x402DF79C#32
  | 55 => 0x3EB3794F#32
  | 56 => 0x3ED725E5#32
  | 57 => 0xBEBF78F3#32
  | 58 => 0xBEBC3789#32
  | 59 => 0x3B36DC3F#32
  | 60 => 0x3FE9E2A6#32
  | 61 => 0xBEB461F8#32
  | 62 => 0xBEC052ED#32
  | 63 => 0x3E3F4938#32
  | 64 => 0xBF57A013#32
  | 65 => 0x40574194#32
  | 66 => 0x3DD2E7C3#32
  | 67 => 0x3F0CF4BC#32
  | 68 => 0xBFA355AB#32
  | 69 => 0xBFB4FFF1#32
  | 70 => 0x3E9C5DCC#32
  | 71 => 0xBEAF4703#32
  | 72 => 0xBF08505F#32
  | 73 => 0xBC5FB43F#32
  | 74 => 0x3E17AC6D#32
  | 75 => 0xBD10D79A#32
  | 76 => 0x3FAD08EB#32
  | 77 => 0x3F12F1D6#32
  | 78 => 0xBF0EA572#32
  | 79 => 0xBEA2BC86#32
  | 80 => 0xBEEB6EB0#32
  | 81 => 0x3FCCCCD7#32
  | 82 => 0xBF0AE860#32
  | 83 => 0xBF9175AA#32
  | 84 => 0x407922A2#32
  | 85 => 0xBEAD83E2#32
  | 86 => 0x40917DF2#32
  | 87 => 0xBE875B8D#32
  | 88 => 0xBF5F5E8C#32
  | 89 => 0x400B68D8#32
  | 90 => 0xBDC964F7#32
  | 91 => 0x3FC5502E#32
  | 92 => 0xBF57908A#32
  | 93 => 0xBE890EB5#32
  | 94 => 0x3F8F8FD7#32
  | 95 => 0xBDA0A081#32
  | 96 => 0xBF2AD62A#32
  | 97 => 0x3F231A42#32
  | 98 => 0xBF5289B0#32
  | 99 => 0x40788A09#32
  | 100 => 0x3F55E3C4#32
  | 101 => 0x3F82060F#32
  | 102 => 0x3FF77998#32
  | 103 => 0xBF7CC441#32
  | 104 => 0xBF1D6639#32
  | 105 => 0xBEE39E24#32
  | 106 => 0x3F1D180A#32
  | 107 => 0x3F9EAABE#32
  | 108 => 0x3EC5B275#32
  | 109 => 0xBF5C2A9A#32
  | 110 => 0xBEA4DB35#32
  | 111 => 0x3F5EA5FB#32
  | 112 => 0x3E3EBB2C#32
  | 113 => 0xBF0B3B81#32
  | 114 => 0x3F1E074B#32
  | 115 => 0xBF195928#32
  | 116 => 0x3CFA6B6F#32
  | 117 => 0x3F4C7650#32
  | 118 => 0xBF43890F#32
  | 119 => 0xBF1CC0D8#32
  | 120 => 0x400198F0#32
  | 121 => 0xBDDCFDA1#32
  | 122 => 0xBF18CF68#32
  | 123 => 0xBE886688#32
  | 124 => 0x3F8DE205#32
  | 125 => 0x3EF9188C#32
  | 126 => 0xBDEC24F5#32
  | 127 => 0xBD5C1C5C#32
  | _ => 0#32

noncomputable abbrev lit0t0_919 (i : Nat) : BitVec 32 := match i % 128 with
  | 0 => 0x3EB94A65#32
  | 1 => 0x3FB172B4#32
  | 2 => 0x3F4D9B88#32
  | 3 => 0x406605C7#32
  | 4 => 0xBF83D337#32
  | 5 => 0x3EA1A828#32
  | 6 => 0x3E93A004#32
  | 7 => 0xBECFAA8F#32
  | 8 => 0x400437F7#32
  | 9 => 0xBFF804D0#32
  | 10 => 0x3F31CA90#32
  | 11 => 0xBDE8C4C7#32
  | 12 => 0x3F276A95#32
  | 13 => 0xBF5B3EE4#32
  | 14 => 0x3FC73DC5#32
  | 15 => 0xBF09F551#32
  | 16 => 0x3D56A3E1#32
  | 17 => 0xBE930042#32
  | 18 => 0xBF16CBD3#32
  | 19 => 0xBF169F20#32
  | 20 => 0x3FA4FF79#32
  | 21 => 0x3F9899B3#32
  | 22 => 0x4002B0F9#32
  | 23 => 0xBFB23604#32
  | 24 => 0xBF7F9285#32
  | 25 => 0xBFAB002C#32
  | 26 => 0x4031ECD8#32
  | 27 => 0x3FD34BF2#32
  | 28 => 0xBE9577CD#32
  | 29 => 0x3FEE9445#32
  | 30 => 0x3FB96CD0#32
  | 31 => 0xBEB950D7#32
  | 32 => 0x4001B855#32
  | 33 => 0xBF917FD8#32
  | 34 => 0x3FD2E97E#32
  | 35 => 0xBF300405#32
  | 36 => 0xBFB13AC5#32
  | 37 => 0xBD71320F#32
  | 38 => 0x3FEB68DD#32
  | 39 => 0x3FE20E8B#32
  | 40 => 0xBF11F966#32
  | 41 => 0xBC42698C#32
  | 42 => 0x3ED5F5E5#32
  | 43 => 0x3F844B40#32
  | 44 => 0xBF9B2C0C#32
  | 45 => 0xBF42EA05#32
  | 46 => 0x3F393028#32
  | 47 => 0x3CBADEC1#32
  | 48 => 0xBF0909B7#32
  | 49 => 0x3E9F2746#32
  | 50 => 0x3EC70C07#32
  | 51 => 0x3D89D5C6#32
  | 52 => 0xBF7FFAF0#32
  | 53 => 0x3F9E8631#32
  | 54 => 0xBF71AEBA#32
  | 55 => 0x4023A3E5#32
  | 56 => 0x405E7D63#32
  | 57 => 0xBF855DF6#32
  | 58 => 0xBF5FED6C#32
  | 59 => 0x3EFB3155#32
  | 60 => 0xBCAFB7D5#32
  | 61 => 0x3F95C1FB#32
  | 62 => 0x3DBFD7E2#32
  | 63 => 0xBFA72A1B#32
  | 64 => 0x3E3BEDD4#32
  | 65 => 0x3FBB6F9D#32
  | 66 => 0x400BE621#32
  | 67 => 0x40155916#32
  | 68 => 0xBF469876#32
  | 69 => 0x3FBCF764#32
  | 70 => 0x3FD55B6C#32
  | 71 => 0x3EE2866C#32
  | 72 => 0x3FA1AD57#32
  | 73 => 0x40229C1C#32
  | 74 => 0x3F004DC4#32
  | 75 => 0x3F8ACBC2#32
  | 76 => 0x3FD302AB#32
  | 77 => 0xBEED5E80#32
  | 78 => 0x3F03F0C3#32
  | 79 => 0x3FB34D82#32
  | 80 => 0x401A06B8#32
  | 81 => 0x3F3DDA72#32
  | 82 => 0x3FA1B3B7#32
  | 83 => 0xBF86FB55#32
  | 84 => 0x3FA32FFB#32
  | 85 => 0xBF94DF7E#32
  | 86 => 0xBFC10538#32
  | 87 => 0x3DBE8285#32
  | 88 => 0xBD50296A#32
  | 89 => 0x3E873C99#32
  | 90 => 0x3FA9B205#32
  | 91 => 0x3F1608EA#32
  | 92 => 0x3DD1E8CE#32
  | 93 => 0x3FA008AE#32
  | 94 => 0x3F37E23F#32
  | 95 => 0xBED975B7#32
  | 96 => 0xBF05E0B5#32
  | 97 => 0x3FB1EBCB#32
  | 98 => 0xBFDDC865#32
  | 99 => 0xBEC05793#32
  | 100 => 0xBFA1EBF9#32
  | 101 => 0x3E8EA788#32
  | 102 => 0xBF6B2350#32
  | 103 => 0xBFC68566#32
  | 104 => 0x3F86A815#32
  | 105 => 0xBEE6C706#32
  | 106 => 0xBF74710E#32
  | 107 => 0x405F49E6#32
  | 108 => 0x3E1B0E64#32
  | 109 => 0x3FA80463#32
  | 110 => 0xBC888625#32
  | 111 => 0xBF38DBDB#32
  | 112 => 0xBE77C8FB#32
  | 113 => 0x403170AA#32
  | 114 => 0xBEC14F90#32
  | 115 => 0x3F23FE6D#32
  | 116 => 0x3EFE075B#32
  | 117 => 0x3F87F1E5#32
  | 118 => 0x402A43C8#32
  | 119 => 0xBFCE59B9#32
  | 120 => 0x3F3EB894#32
  | 121 => 0x3F57B2C5#32
  | 122 => 0xBF0CA5AB#32
  | 123 => 0x3F1CCB24#32
  | 124 => 0xBDA70482#32
  | 125 => 0xBF2E3FD7#32
  | 126 => 0xBEFDB0A9#32
  | 127 => 0x3F7225E0#32
  | _ => 0#32

noncomputable abbrev lit0t0_920 (i : Nat) : BitVec 32 := match i % 128 with
  | 0 => 0x3F114AAA#32
  | 1 => 0x40008195#32
  | 2 => 0x3F117F64#32
  | 3 => 0x3F8F2FB4#32
  | 4 => 0xBEB99F9E#32
  | 5 => 0xBFDA2AFF#32
  | 6 => 0xBF34E24C#32
  | 7 => 0xBCC72CD8#32
  | 8 => 0x3FAE9518#32
  | 9 => 0xBF190113#32
  | 10 => 0x40BE07DB#32
  | 11 => 0xBF5F3A65#32
  | 12 => 0x3FBEB3F0#32
  | 13 => 0x3F32D207#32
  | 14 => 0x3E9A9696#32
  | 15 => 0x40057752#32
  | 16 => 0x3F3B5512#32
  | 17 => 0x40C2DBB7#32
  | 18 => 0xBEE2134E#32
  | 19 => 0x3EEA9140#32
  | 20 => 0x3F2C266A#32
  | 21 => 0xBFD0C4FB#32
  | 22 => 0x3FE81F1E#32
  | 23 => 0x3F23FF67#32
  | 24 => 0x3F494350#32
  | 25 => 0x3F850A0A#32
  | 26 => 0x400EB858#32
  | 27 => 0xBDCF8943#32
  | 28 => 0xBF1D7768#32
  | 29 => 0xBE9ECEAE#32
  | 30 => 0x3E85364D#32
  | 31 => 0xBFBA026B#32
  | 32 => 0x3FEEE522#32
  | 33 => 0xBF2AB736#32
  | 34 => 0x3F108990#32
  | 35 => 0x3EE68FC0#32
  | 36 => 0xBEB58FBE#32
  | 37 => 0xBEBA6BAB#32
  | 38 => 0x3EDB5750#32
  | 39 => 0x3F5715B4#32
  | 40 => 0xBF080176#32
  | 41 => 0xBF435162#32
  | 42 => 0x3F90EF88#32
  | 43 => 0x3E3ACC8E#32
  | 44 => 0xBD9862F8#32
  | 45 => 0x3EF8B014#32
  | 46 => 0x3FB32332#32
  | 47 => 0x3E5F2A4C#32
  | 48 => 0xBF88101D#32
  | 49 => 0x3E2A9106#32
  | 50 => 0xBF3CA225#32
  | 51 => 0xBF9FD482#32
  | 52 => 0x3F10BB54#32
  | 53 => 0xBF57FA99#32
  | 54 => 0x3FD59714#32
  | 55 => 0x3F606061#32
  | 56 => 0x3E665C30#32
  | 57 => 0x3F43EE99#32
  | 58 => 0xBEB0B4EA#32
  | 59 => 0x40328EDC#32
  | 60 => 0x3FE9BE30#32
  | 61 => 0x3F5293B5#32
  | 62 => 0x3F961DCE#32
  | 63 => 0xBD9928E4#32
  | 64 => 0xBFD34306#32
  | 65 => 0xBF41F1AA#32
  | 66 => 0xBC2E57B1#32
  | 67 => 0x40663D3B#32
  | 68 => 0x3EE4664F#32
  | 69 => 0x3E975BF6#32
  | 70 => 0xBFD361F5#32
  | 71 => 0xBEAE2ECE#32
  | 72 => 0x3D9D1184#32
  | 73 => 0xBE563860#32
  | 74 => 0x41021F87#32
  | 75 => 0xBF822A92#32
  | 76 => 0xBF6C9C6E#32
  | 77 => 0x3EE5E1C7#32
  | 78 => 0x402C0E01#32
  | 79 => 0x3EA12B1B#32
  | 80 => 0x3F1BE23C#32
  | 81 => 0x3FA58968#32
  | 82 => 0x3EE9B3D5#32
  | 83 => 0x3E31921B#32
  | 84 => 0x3DC555C8#32
  | 85 => 0x3F0EB2E8#32
  | 86 => 0x3E9B278A#32
  | 87 => 0xBF8BDA19#32
  | 88 => 0x3F92A6CA#32
  | 89 => 0x404A335C#32
  | 90 => 0xBF547745#32
  | 91 => 0x3FA6B15C#32
  | 92 => 0xBEFAB042#32
  | 93 => 0x3F8DDB5E#32
  | 94 => 0x401CE779#32
  | 95 => 0x401E3249#32
  | 96 => 0xBF6E145D#32
  | 97 => 0x3FECCF80#32
  | 98 => 0x409493E7#32
  | 99 => 0x3FB401AB#32
  | 100 => 0xBF18F6AB#32
  | 101 => 0xBE117402#32
  | 102 => 0xBE0AEA34#32
  | 103 => 0x3F92F622#32
  | 104 => 0xBF56686B#32
  | 105 => 0x3E0CD378#32
  | 106 => 0x3E876717#32
  | 107 => 0x3FCB09B5#32
  | 108 => 0xBE8C765A#32
  | 109 => 0xBF1C96FA#32
  | 110 => 0x3F2E0999#32
  | 111 => 0x3E93751A#32
  | 112 => 0x3FBE671B#32
  | 113 => 0x3E35DF87#32
  | 114 => 0x3EAC1083#32
  | 115 => 0x3EA72E10#32
  | 116 => 0xBEFD7CBA#32
  | 117 => 0x3EDE2D91#32
  | 118 => 0x3F532F8D#32
  | 119 => 0x3F7AF966#32
  | 120 => 0x3EB63A65#32
  | 121 => 0xBF3A1155#32
  | 122 => 0xBEF837AB#32
  | 123 => 0x3FA6F049#32
  | 124 => 0x3F8D9C58#32
  | 125 => 0xBED53CB5#32
  | 126 => 0x3F8FDEBE#32
  | 127 => 0x3F223CD7#32
  | _ => 0#32

noncomputable abbrev lit0t0_921 (i : Nat) : BitVec 32 := match i % 128 with
  | 0 => 0xBE0AC177#32
  | 1 => 0xBF61F3EB#32
  | 2 => 0x403397ED#32
  | 3 => 0x3E3C8D55#32
  | 4 => 0x4082DAC4#32
  | 5 => 0x4095C01E#32
  | 6 => 0xBF93F632#32
  | 7 => 0x3F43AEB3#32
  | 8 => 0x3CE8AB27#32
  | 9 => 0x3F77D11C#32
  | 10 => 0xBF9476EB#32
  | 11 => 0x408ACB7F#32
  | 12 => 0xBF9D2794#32
  | 13 => 0xBE98B6CA#32
  | 14 => 0x3E4564E4#32
  | 15 => 0xBE2F0A6E#32
  | 16 => 0xBEABCD27#32
  | 17 => 0x40D737CE#32
  | 18 => 0x402CF2CC#32
  | 19 => 0xBED4CC59#32
  | 20 => 0xBED98A2E#32
  | 21 => 0xBF6B58F1#32
  | 22 => 0x3F14EEC6#32
  | 23 => 0x3C21D570#32
  | 24 => 0x3F8B593A#32
  | 25 => 0xBF786A98#32
  | 26 => 0xBFA897BA#32
  | 27 => 0x3F58FCF2#32
  | 28 => 0x3F0F2013#32
  | 29 => 0x3D07782A#32
  | 30 => 0xBDD1155B#32
  | 31 => 0xBF6CC06E#32
  | 32 => 0x3F302732#32
  | 33 => 0xBF4A6DA6#32
  | 34 => 0x40302545#32
  | 35 => 0x401E2DBB#32
  | 36 => 0x3FE3B9A2#32
  | 37 => 0x4016B948#32
  | 38 => 0x3F3393B2#32
  | 39 => 0xBF1B004C#32
  | 40 => 0x3F046CDC#32
  | 41 => 0x3F72A5E6#32
  | 42 => 0x3F85FDDE#32
  | 43 => 0x3F72BB3A#32
  | 44 => 0xBEFB202A#32
  | 45 => 0x3FA25F1A#32
  | 46 => 0x400C39B1#32
  | 47 => 0x3B3EDD15#32
  | 48 => 0x3F619B8A#32
  | 49 => 0x3D8B67CD#32
  | 50 => 0x3FD2D074#32
  | 51 => 0xBFB76B30#32
  | 52 => 0xBE3A1C00#32
  | 53 => 0x401E9E7E#32
  | 54 => 0x40873A47#32
  | 55 => 0xBD9F6434#32
  | 56 => 0x3F995306#32
  | 57 => 0xBE0DF9E0#32
  | 58 => 0xBF138CCE#32
  | 59 => 0x3F06EB5B#32
  | 60 => 0x3FF7998F#32
  | 61 => 0xBF8FEB78#32
  | 62 => 0xBF79E8DA#32
  | 63 => 0x3F5F0486#32
  | 64 => 0x3F146583#32
  | 65 => 0x3E1F8FC2#32
  | 66 => 0x3F5CB828#32
  | 67 => 0xBF12070C#32
  | 68 => 0x3FAEC5A9#32
  | 69 => 0x3F1D5E7C#32
  | 70 => 0xBEB9860B#32
  | 71 => 0xBE979C77#32
  | 72 => 0x3F59A128#32
  | 73 => 0xBE42E23A#32
  | 74 => 0x3EE26391#32
  | 75 => 0x4099A41D#32
  | 76 => 0x3EE82333#32
  | 77 => 0xBF010CE1#32
  | 78 => 0xBD7FC36F#32
  | 79 => 0xBD263F7E#32
  | 80 => 0x3FAF2D5C#32
  | 81 => 0xBF1440F0#32
  | 82 => 0xBA822774#32
  | 83 => 0xBFABDD61#32
  | 84 => 0xBE0CF7E2#32
  | 85 => 0x4007DE5E#32
  | 86 => 0x3F19597A#32
  | 87 => 0x3F9D7BD0#32
  | 88 => 0x3FBF280A#32
  | 89 => 0x3FC1D4B9#32
  | 90 => 0x401AA95F#32
  | 91 => 0x3F886CC1#32
  | 92 => 0x3F6BD836#32
  | 93 => 0x3E2A1D70#32
  | 94 => 0x3FE36564#32
  | 95 => 0x40542FD7#32
  | 96 => 0x3FC7F663#32
  | 97 => 0xBF47CCE5#32
  | 98 => 0xBF86AA72#32
  | 99 => 0x406EC16E#32
  | 100 => 0xBDCCB0A8#32
  | 101 => 0x3F798D5C#32
  | 102 => 0xBE93E69D#32
  | 103 => 0x401E149C#32
  | 104 => 0xBEBCF492#32
  | 105 => 0x3E80D743#32
  | 106 => 0x404C8ED1#32
  | 107 => 0x3FEC6133#32
  | 108 => 0xBF2182C8#32
  | 109 => 0xBD971630#32
  | 110 => 0x3FB2613F#32
  | 111 => 0xBE1DFA6D#32
  | 112 => 0x3F2524B6#32
  | 113 => 0x3F1BD202#32
  | 114 => 0x3EBD0E27#32
  | 115 => 0x3EED38AC#32
  | 116 => 0x3EFF44AB#32
  | 117 => 0xBF24D63A#32
  | 118 => 0x4024E7B2#32
  | 119 => 0x3E672147#32
  | 120 => 0xBFA44B79#32
  | 121 => 0x3F420046#32
  | 122 => 0xBE034C03#32
  | 123 => 0x40470695#32
  | 124 => 0xBED50305#32
  | 125 => 0xBEF52DE7#32
  | 126 => 0xBE984698#32
  | 127 => 0x4036D854#32
  | _ => 0#32

noncomputable abbrev lit0t0_922 (i : Nat) : BitVec 32 := match i % 128 with
  | 0 => 0xBF8B4FF5#32
  | 1 => 0x3F40CB66#32
  | 2 => 0xBEF9A296#32
  | 3 => 0xBF3FBCEC#32
  | 4 => 0x3F036CDB#32
  | 5 => 0xBD988428#32
  | 6 => 0x3E88AB14#32
  | 7 => 0x3EED4170#32
  | 8 => 0x3F72F702#32
  | 9 => 0xBFA0CA7C#32
  | 10 => 0xBE3AEB55#32
  | 11 => 0xBF3DCAF3#32
  | 12 => 0x40060FCF#32
  | 13 => 0x3EB0DADF#32
  | 14 => 0xBF82586D#32
  | 15 => 0xBF520D4C#32
  | 16 => 0xBE670744#32
  | 17 => 0x4027C7DA#32
  | 18 => 0xBF23445F#32
  | 19 => 0xBF3D2A7E#32
  | 20 => 0x3EEA3B62#32
  | 21 => 0x3E80C690#32
  | 22 => 0x3F31D449#32
  | 23 => 0x3ECBAC6B#32
  | 24 => 0x400F53D0#32
  | 25 => 0xBF26BADB#32
  | 26 => 0x3E88E710#32
  | 27 => 0xBA7941A8#32
  | 28 => 0x3E8E96AD#32
  | 29 => 0x3E0373AA#32
  | 30 => 0xBF3B8C62#32
  | 31 => 0x401632A0#32
  | 32 => 0xBF70C5A8#32
  | 33 => 0xBEC1E269#32
  | 34 => 0x4019F44D#32
  | 35 => 0x3F7B71F6#32
  | 36 => 0xBC72D48A#32
  | 37 => 0x3FB9BEFB#32
  | 38 => 0xBF911931#32
  | 39 => 0xBF67B1AA#32
  | 40 => 0x3E974E4D#32
  | 41 => 0x4088343A#32
  | 42 => 0x4074FF34#32
  | 43 => 0xBF4B1105#32
  | 44 => 0xBF23AE7A#32
  | 45 => 0x3FBE6026#32
  | 46 => 0x3FE08CE0#32
  | 47 => 0x3FCFB312#32
  | 48 => 0x3FBF702F#32
  | 49 => 0x3F8A1890#32
  | 50 => 0xBF7D3633#32
  | 51 => 0x3C01504C#32
  | 52 => 0xBDF986B1#32
  | 53 => 0xBFA87BB9#32
  | 54 => 0xBF357605#32
  | 55 => 0x404CC9F2#32
  | 56 => 0x3EE97D18#32
  | 57 => 0x3F2F2813#32
  | 58 => 0x4026F0D3#32
  | 59 => 0x3F4BCFA4#32
  | 60 => 0xBD775560#32
  | 61 => 0xBF9DD377#32
  | 62 => 0x3E8F14FE#32
  | 63 => 0xBE95EF43#32
  | 64 => 0x3E8F3F6B#32
  | 65 => 0x3F877F19#32
  | 66 => 0xBF51DCB4#32
  | 67 => 0x3F627DF7#32
  | 68 => 0xBF2D4597#32
  | 69 => 0x3D51CBC3#32
  | 70 => 0x3DD4FEF9#32
  | 71 => 0x3EEEBFBC#32
  | 72 => 0x40034CB9#32
  | 73 => 0xBF3279D2#32
  | 74 => 0xBD15E7FC#32
  | 75 => 0x3FFD25F5#32
  | 76 => 0xBF6D214C#32
  | 77 => 0x3F89ADBD#32
  | 78 => 0xBDE01C61#32
  | 79 => 0x3E53A788#32
  | 80 => 0x3ED8CCF3#32
  | 81 => 0x3F5B11D0#32
  | 82 => 0xBD4C2F39#32
  | 83 => 0x3F9EB291#32
  | 84 => 0xBEB68326#32
  | 85 => 0xBD158398#32
  | 86 => 0x3FC387A9#32
  | 87 => 0x3FD3A8D4#32
  | 88 => 0xBF0C25CA#32
  | 89 => 0x3FDB459F#32
  | 90 => 0x3FD7B1F4#32
  | 91 => 0x3DB3C135#32
  | 92 => 0xBE98B925#32
  | 93 => 0x402C82AD#32
  | 94 => 0x3FE1A340#32
  | 95 => 0xBDA27229#32
  | 96 => 0x3F8CFD06#32
  | 97 => 0x404426C3#32
  | 98 => 0x3FFF841A#32
  | 99 => 0x3F3430A3#32
  | 100 => 0x3FE78B0A#32
  | 101 => 0x3EC02A16#32
  | 102 => 0x4004233A#32
  | 103 => 0xBFA05596#32
  | 104 => 0x3F436E4D#32
  | 105 => 0x3E46F437#32
  | 106 => 0xBE02197E#32
  | 107 => 0xBFA273E5#32
  | 108 => 0x3F844648#32
  | 109 => 0x3EE50E4E#32
  | 110 => 0x401897D4#32
  | 111 => 0xBF09008E#32
  | 112 => 0x3F604606#32
  | 113 => 0x3ECFE574#32
  | 114 => 0x3EE028CE#32
  | 115 => 0x3FCAF2D6#32
  | 116 => 0x3F92661A#32
  | 117 => 0x3FE336AA#32
  | 118 => 0xBF85B762#32
  | 119 => 0x407D609C#32
  | 120 => 0x403592DD#32
  | 121 => 0x3D878D1F#32
  | 122 => 0x3F67F261#32
  | 123 => 0x3F307450#32
  | 124 => 0x3FDBA938#32
  | 125 => 0x3FD74247#32
  | 126 => 0x3E9A68DE#32
  | 127 => 0xBE99C073#32
  | _ => 0#32

noncomputable abbrev lit0t0_923 (i : Nat) : BitVec 32 := match i % 128 with
  | 0 => 0xBE6BCBD8#32
  | 1 => 0xBD8DC93A#32
  | 2 => 0x3C91300E#32
  | 3 => 0x3B77706F#32
  | 4 => 0xBEB2D516#32
  | 5 => 0xBF3222AD#32
  | 6 => 0x3E2D5DF3#32
  | 7 => 0xBF5ACA5C#32
  | 8 => 0x400D1735#32
  | 9 => 0x3E1EA794#32
  | 10 => 0x3F19F2A0#32
  | 11 => 0xBF16BC36#32
  | 12 => 0x3E061603#32
  | 13 => 0xBE879F41#32
  | 14 => 0x3F490AEA#32
  | 15 => 0x403A6C47#32
  | 16 => 0x3EE4205C#32
  | 17 => 0x3F011AB0#32
  | 18 => 0x405EFA9F#32
  | 19 => 0x3F001E44#32
  | 20 => 0xBF4E44AA#32
  | 21 => 0xBDB9F48D#32
  | 22 => 0x3EFF1089#32
  | 23 => 0xBED5B14D#32
  | 24 => 0x403600D8#32
  | 25 => 0x3F37082D#32
  | 26 => 0xBFB7152E#32
  | 27 => 0xBF48BF44#32
  | 28 => 0x3FE0C958#32
  | 29 => 0x3CC33889#32
  | 30 => 0x3FEAAD1C#32
  | 31 => 0x3E8A4016#32
  | 32 => 0x3F95DEEF#32
  | 33 => 0x4026163B#32
  | 34 => 0x3FF415F1#32
  | 35 => 0x3F8375CF#32
  | 36 => 0xBC06C9AD#32
  | 37 => 0x3F59DD35#32
  | 38 => 0xBE80CAAD#32
  | 39 => 0x3E84434F#32
  | 40 => 0x3F298CDC#32
  | 41 => 0x3F9DB836#32
  | 42 => 0x40222B09#32
  | 43 => 0x3FAB3E8D#32
  | 44 => 0xBE0CB143#32
  | 45 => 0x3FA3E8CC#32
  | 46 => 0xBEC9E1F2#32
  | 47 => 0x3EDEFCBD#32
  | 48 => 0x3E9175F7#32
  | 49 => 0x3F930D7E#32
  | 50 => 0xBF7B616A#32
  | 51 => 0x3E84CAB4#32
  | 52 => 0x3EB9C7A9#32
  | 53 => 0x3FD3CF22#32
  | 54 => 0xBF113C9B#32
  | 55 => 0xBDEF4E0F#32
  | 56 => 0xBFA33303#32
  | 57 => 0x3EEE9817#32
  | 58 => 0xBE95CB81#32
  | 59 => 0xBEAE38BD#32
  | 60 => 0xBFCB3969#32
  | 61 => 0x3EEB2076#32
  | 62 => 0xBF363761#32
  | 63 => 0x3ED8D937#32
  | 64 => 0x3FEB7AB9#32
  | 65 => 0xBEF0B860#32
  | 66 => 0x3ED1B2D9#32
  | 67 => 0x3E170C83#32
  | 68 => 0x3F0B758D#32
  | 69 => 0x4022C188#32
  | 70 => 0xBDEE1D4C#32
  | 71 => 0x3F6EFF0C#32
  | 72 => 0xBF60F4CC#32
  | 73 => 0x4025628D#32
  | 74 => 0xBE0B5BF6#32
  | 75 => 0xBF8AF78C#32
  | 76 => 0xBFA38E4C#32
  | 77 => 0x3EC9558B#32
  | 78 => 0x3FD5B9C6#32
  | 79 => 0xC00148BB#32
  | 80 => 0x3EDCF8E4#32
  | 81 => 0x3F471AA7#32
  | 82 => 0xBF0BF8F1#32
  | 83 => 0xBE898745#32
  | 84 => 0x3EBBDF37#32
  | 85 => 0x3F2107C4#32
  | 86 => 0xBAE36D76#32
  | 87 => 0xBF42D68E#32
  | 88 => 0x3F5E3E56#32
  | 89 => 0x3FAE8066#32
  | 90 => 0xBF251DED#32
  | 91 => 0xBF79B540#32
  | 92 => 0xBF872F68#32
  | 93 => 0x3D88C8EF#32
  | 94 => 0xBF0716D7#32
  | 95 => 0x3FCD6AF2#32
  | 96 => 0xBF39649F#32
  | 97 => 0xBF19B468#32
  | 98 => 0x402BBAD9#32
  | 99 => 0xBF3F3914#32
  | 100 => 0x3E9940C4#32
  | 101 => 0x3E84772B#32
  | 102 => 0x3F9BC5C9#32
  | 103 => 0x3E308F37#32
  | 104 => 0x3FB72F8D#32
  | 105 => 0x3E897B34#32
  | 106 => 0x4021192D#32
  | 107 => 0x4016AEF7#32
  | 108 => 0x3FA2E11F#32
  | 109 => 0xBF314EE9#32
  | 110 => 0x40132BEC#32
  | 111 => 0xBEC4FC5F#32
  | 112 => 0xBF33912E#32
  | 113 => 0x3DE9A240#32
  | 114 => 0xBEBBE14B#32
  | 115 => 0x3F721E50#32
  | 116 => 0xBEBC25A6#32
  | 117 => 0x3FC939DD#32
  | 118 => 0x3F156422#32
  | 119 => 0x3F73B4DE#32
  | 120 => 0xBD413DFA#32
  | 121 => 0xBF8E155F#32
  | 122 => 0x3FEB47DC#32
  | 123 => 0x3E451A4A#32
  | 124 => 0x3EFFA6AA#32
  | 125 => 0x3F79A584#32
  | 126 => 0x3F643444#32
  | 127 => 0x3F9EE1D2#32
  | _ => 0#32

noncomputable abbrev lit0t0_924 (i : Nat) : BitVec 32 := match i % 128 with
  | 0 => 0x4100475F#32
  | 1 => 0xBE887C62#32
  | 2 => 0x40200183#32
  | 3 => 0x403350BB#32
  | 4 => 0xBEFF335E#32
  | 5 => 0x3DC68C5C#32
  | 6 => 0x3FD4A2A2#32
  | 7 => 0x3F28013C#32
  | 8 => 0x400B8261#32
  | 9 => 0xBFA6F761#32
  | 10 => 0xBEFDA67E#32
  | 11 => 0x3FD81E34#32
  | 12 => 0x4015EB99#32
  | 13 => 0xBF4D4ED4#32
  | 14 => 0x3EDD92AA#32
  | 15 => 0x3EEA7602#32
  | 16 => 0xBF9CE462#32
  | 17 => 0xBF0F1A42#32
  | 18 => 0xBED4D358#32
  | 19 => 0xBF288F4F#32
  | 20 => 0x3EAB8BEC#32
  | 21 => 0x3F90D536#32
  | 22 => 0xBFB59B01#32
  | 23 => 0xBF5A8FFB#32
  | 24 => 0x3F65896E#32
  | 25 => 0x3F8E24B4#32
  | 26 => 0xBEC7C97D#32
  | 27 => 0xBF2BF8CC#32
  | 28 => 0xBF802DEF#32
  | 29 => 0x3ED168EF#32
  | 30 => 0x3FC00030#32
  | 31 => 0x3FE259B0#32
  | 32 => 0x3EC18626#32
  | 33 => 0x3E72D047#32
  | 34 => 0x3FD7A194#32
  | 35 => 0x3F2E46C7#32
  | 36 => 0xBEB3370D#32
  | 37 => 0x3EE73ECA#32
  | 38 => 0x404FEC3E#32
  | 39 => 0xBE519601#32
  | 40 => 0x3F8B4F1B#32
  | 41 => 0xBEFBBC0A#32
  | 42 => 0x3F50FB4A#32
  | 43 => 0x402707FE#32
  | 44 => 0x40171C12#32
  | 45 => 0xBEE4B512#32
  | 46 => 0x3F373D1D#32
  | 47 => 0x3F24D0E3#32
  | 48 => 0x3F52AB22#32
  | 49 => 0x401B0691#32
  | 50 => 0x3F384CDF#32
  | 51 => 0xBFA0AC95#32
  | 52 => 0x3F328293#32
  | 53 => 0x3FA18B9B#32
  | 54 => 0x3EE23AF8#32
  | 55 => 0x40432F91#32
  | 56 => 0x3FB7B8B4#32
  | 57 => 0xBEED4000#32
  | 58 => 0x3F59DAFE#32
  | 59 => 0x40208450#32
  | 60 => 0xBF4FB723#32
  | 61 => 0x4016E8FC#32
  | 62 => 0x3EC4F287#32
  | 63 => 0x3FBCD6C4#32
  | 64 => 0x3DF41FF5#32
  | 65 => 0x3EF281A2#32
  | 66 => 0x3E0E13FF#32
  | 67 => 0x3E919F44#32
  | 68 => 0x3E5977A6#32
  | 69 => 0x3F99B90F#32
  | 70 => 0x3F8E44AD#32
  | 71 => 0x3EA4D78F#32
  | 72 => 0x3F50374F#32
  | 73 => 0xBF57477C#32
  | 74 => 0x40143FA0#32
  | 75 => 0xBEF97A02#32
  | 76 => 0x3F772F06#32
  | 77 => 0xBCBD302B#32
  | 78 => 0x3FB6D4B9#32
  | 79 => 0x3EC3041B#32
  | 80 => 0x3F465719#32
  | 81 => 0xBE76AB67#32
  | 82 => 0xBF1665D3#32
  | 83 => 0x4006814A#32
  | 84 => 0xBF1E5EEC#32
  | 85 => 0xBF4655A2#32
  | 86 => 0xBEFCED52#32
  | 87 => 0x3D2956A3#32
  | 88 => 0x3F7D0267#32
  | 89 => 0x3EF233EA#32
  | 90 => 0x3EBF3CDD#32
  | 91 => 0x4095761D#32
  | 92 => 0x3ED74C4D#32
  | 93 => 0xBD5A9504#32
  | 94 => 0x3F629E8A#32
  | 95 => 0xBDAB6F0F#32
  | 96 => 0xBE76322C#32
  | 97 => 0x4070DD32#32
  | 98 => 0x3E35C342#32
  | 99 => 0x3EFA63EC#32
  | 100 => 0x3FC3E9F4#32
  | 101 => 0x3FCBB582#32
  | 102 => 0x3F75EA0B#32
  | 103 => 0x3F5B9BD8#32
  | 104 => 0xBE9DD8A3#32
  | 105 => 0x40303F7F#32
  | 106 => 0xBF8C857D#32
  | 107 => 0x403C10E3#32
  | 108 => 0x3F5AF373#32
  | 109 => 0xBE8CFD90#32
  | 110 => 0x4036B7A0#32
  | 111 => 0x3DCF1B53#32
  | 112 => 0xBF1CB94A#32
  | 113 => 0x3FFDA561#32
  | 114 => 0xBE8A8DB0#32
  | 115 => 0x3F90F620#32
  | 116 => 0x3F71C222#32
  | 117 => 0x3F154201#32
  | 118 => 0xBF210648#32
  | 119 => 0x40143EAA#32
  | 120 => 0xBFDB7A75#32
  | 121 => 0x3F008EA7#32
  | 122 => 0x3FEDEB7F#32
  | 123 => 0x3EB56317#32
  | 124 => 0x3DE56E5D#32
  | 125 => 0x40297A2A#32
  | 126 => 0x3FDCFCDA#32
  | 127 => 0xBE7B77ED#32
  | _ => 0#32

noncomputable abbrev lit0t0_925 (i : Nat) : BitVec 32 := match i % 128 with
  | 0 => 0x3E3CB627#32
  | 1 => 0xBF00630E#32
  | 2 => 0xBF2B4030#32
  | 3 => 0x3FACCF6F#32
  | 4 => 0x3F8695F0#32
  | 5 => 0xBE0DE16B#32
  | 6 => 0xBE4D457C#32
  | 7 => 0xBE0B43B0#32
  | 8 => 0x3F484320#32
  | 9 => 0xBE886533#32
  | 10 => 0xBF786EB2#32
  | 11 => 0xBF6219EC#32
  | 12 => 0xBFEED9E2#32
  | 13 => 0x3F122AE3#32
  | 14 => 0xBF728CA7#32
  | 15 => 0xBF2642B3#32
  | 16 => 0x3F3D14F6#32
  | 17 => 0x3F9E0380#32
  | 18 => 0xBFD6DB71#32
  | 19 => 0x3FCF6C8B#32
  | 20 => 0xBEC1212F#32
  | 21 => 0x3ED06C2E#32
  | 22 => 0x3FD8E96B#32
  | 23 => 0xBF33794A#32
  | 24 => 0xBF241E26#32
  | 25 => 0xBF8AE4B2#32
  | 26 => 0xBF93E73A#32
  | 27 => 0xBF0AAD62#32
  | 28 => 0x3EEB47F3#32
  | 29 => 0xBF1E7581#32
  | 30 => 0x3FD2D375#32
  | 31 => 0xBE3E1687#32
  | 32 => 0x3F5E319E#32
  | 33 => 0x3F33346D#32
  | 34 => 0x4047F670#32
  | 35 => 0xBD7CB4B0#32
  | 36 => 0x3FF98A90#32
  | 37 => 0x4024960E#32
  | 38 => 0xBF4587B9#32
  | 39 => 0x3EB18BC7#32
  | 40 => 0x3ED89A84#32
  | 41 => 0x3F9B5A62#32
  | 42 => 0xBEDAB96B#32
  | 43 => 0x3E86542B#32
  | 44 => 0x3F76052A#32
  | 45 => 0x3F81A583#32
  | 46 => 0x3FE1E001#32
  | 47 => 0x3FBEBFA4#32
  | 48 => 0x3EA02CAC#32
  | 49 => 0xBF4BAB52#32
  | 50 => 0x3F012360#32
  | 51 => 0x3F5C31AA#32
  | 52 => 0x3F50DC62#32
  | 53 => 0x3FB233B3#32
  | 54 => 0x3FDC277B#32
  | 55 => 0x3FE22976#32
  | 56 => 0xBF56B49F#32
  | 57 => 0x4002C95B#32
  | 58 => 0x3FD447C7#32
  | 59 => 0x3EF3527C#32
  | 60 => 0x3F540C41#32
  | 61 => 0x3F45AE6B#32
  | 62 => 0x402D048F#32
  | 63 => 0x40305B56#32
  | 64 => 0xBF0D6AD8#32
  | 65 => 0x3FD7F808#32
  | 66 => 0xBF9A8DD8#32
  | 67 => 0xBF4C1F34#32
  | 68 => 0x3F8BEFCA#32
  | 69 => 0xBF82CAA3#32
  | 70 => 0x3EED8F88#32
  | 71 => 0x3DFAB971#32
  | 72 => 0xBF86CBC0#32
  | 73 => 0xBCC225DC#32
  | 74 => 0xBF281D45#32
  | 75 => 0x3FC5D2CA#32
  | 76 => 0x3F58C026#32
  | 77 => 0x40028BED#32
  | 78 => 0x3F66961F#32
  | 79 => 0x3FB9B585#32
  | 80 => 0xBDEA161C#32
  | 81 => 0x3F57EE42#32
  | 82 => 0x3F7C4222#32
  | 83 => 0x3F8453B2#32
  | 84 => 0x3FD06C0D#32
  | 85 => 0x3F8A5876#32
  | 86 => 0x3FD9E171#32
  | 87 => 0x4024FDA2#32
  | 88 => 0x3E957A92#32
  | 89 => 0x3FA1E8AB#32
  | 90 => 0xBEA2CD26#32
  | 91 => 0x3F0AE8E6#32
  | 92 => 0x3F6122A2#32
  | 93 => 0x40269F50#32
  | 94 => 0x3E761A80#32
  | 95 => 0xBF4427C2#32
  | 96 => 0x3F064CBD#32
  | 97 => 0xBF035968#32
  | 98 => 0xBF07E1E8#32
  | 99 => 0xBF220269#32
  | 100 => 0x4070BF95#32
  | 101 => 0xBE871A4A#32
  | 102 => 0xBEEB5FEE#32
  | 103 => 0x40248249#32
  | 104 => 0x3C4AC525#32
  | 105 => 0x3F310D26#32
  | 106 => 0x3F0E9423#32
  | 107 => 0xBE822779#32
  | 108 => 0x3F2058C7#32
  | 109 => 0xBE32EF78#32
  | 110 => 0x3F139389#32
  | 111 => 0x3F93DC6B#32
  | 112 => 0x3F9FA1D7#32
  | 113 => 0x3FBFDC40#32
  | 114 => 0x3FF22B33#32
  | 115 => 0x3E9BAFCD#32
  | 116 => 0x3F94FEB0#32
  | 117 => 0x3F31B08F#32
  | 118 => 0x3F4EC063#32
  | 119 => 0xBFB5277C#32
  | 120 => 0xBF5FACF2#32
  | 121 => 0x3FC3BEDB#32
  | 122 => 0xBE3619DD#32
  | 123 => 0xBDBACAB7#32
  | 124 => 0x3E4EDFBF#32
  | 125 => 0xBF45A849#32
  | 126 => 0x3E4F4F9A#32
  | 127 => 0xBF095208#32
  | _ => 0#32

noncomputable abbrev lit0t0_926 (i : Nat) : BitVec 32 := match i % 128 with
  | 0 => 0xBFC0C880#32
  | 1 => 0x3FF57BC5#32
  | 2 => 0x3FA516C4#32
  | 3 => 0xBF745E96#32
  | 4 => 0xBFA7CB64#32
  | 5 => 0x3E9ED1C7#32
  | 6 => 0xBEE07792#32
  | 7 => 0x3F98FFE5#32
  | 8 => 0xBDD0B633#32
  | 9 => 0x3F54DB2D#32
  | 10 => 0xBEB4ECDD#32
  | 11 => 0xBF2B9CF8#32
  | 12 => 0x3F9B0712#32
  | 13 => 0x400C7FA5#32
  | 14 => 0x3F448532#32
  | 15 => 0x3F8BDE9D#32
  | 16 => 0x3FE66EDE#32
  | 17 => 0xBF437572#32
  | 18 => 0x3FCDC320#32
  | 19 => 0x3FFD9C7F#32
  | 20 => 0x4053D9D8#32
  | 21 => 0x3F919422#32
  | 22 => 0xBF88148E#32
  | 23 => 0xBEE92188#32
  | 24 => 0xBF3CFCCA#32
  | 25 => 0x3FAD4806#32
  | 26 => 0x3FF0CA90#32
  | 27 => 0x3FF6BF86#32
  | 28 => 0x3F3B3FF4#32
  | 29 => 0x3FF7263C#32
  | 30 => 0xBDF6B758#32
  | 31 => 0x3EFB5E27#32
  | 32 => 0xBDD746BB#32
  | 33 => 0x403FABF7#32
  | 34 => 0x3C6BF31C#32
  | 35 => 0xBF39DC2F#32
  | 36 => 0x3ECE2F0E#32
  | 37 => 0x40608984#32
  | 38 => 0x3EC0D115#32
  | 39 => 0xBE654CB0#32
  | 40 => 0x4066ECD9#32
  | 41 => 0x3DE89A52#32
  | 42 => 0x3F34C954#32
  | 43 => 0xBF625359#32
  | 44 => 0xBD367F35#32
  | 45 => 0x3F1EFA07#32
  | 46 => 0x3F524D3A#32
  | 47 => 0xBE974342#32
  | 48 => 0xBF3D613B#32
  | 49 => 0xBEA981CB#32
  | 50 => 0x3FA6498D#32
  | 51 => 0x3FCD2AAE#32
  | 52 => 0x3FB99752#32
  | 53 => 0xBEE175AE#32
  | 54 => 0xBF1E7F04#32
  | 55 => 0x3F39EB26#32
  | 56 => 0x400CE232#32
  | 57 => 0x3FB5B24D#32
  | 58 => 0x4096BE64#32
  | 59 => 0x405F552E#32
  | 60 => 0x3E930346#32
  | 61 => 0x40010563#32
  | 62 => 0x3D93E9C8#32
  | 63 => 0x403A66EE#32
  | 64 => 0x3FA41D0E#32
  | 65 => 0xBF47EAF8#32
  | 66 => 0xBF6B0B69#32
  | 67 => 0xBE9323E6#32
  | 68 => 0xBF196DC5#32
  | 69 => 0x3FB0CEDB#32
  | 70 => 0x40575DB1#32
  | 71 => 0xBF970C0B#32
  | 72 => 0x3E911E82#32
  | 73 => 0x3F3A6819#32
  | 74 => 0x3F98E406#32
  | 75 => 0x3FB67EFB#32
  | 76 => 0xBF2DF1C4#32
  | 77 => 0x3E70D29B#32
  | 78 => 0x3F853AAF#32
  | 79 => 0xBF25A0FF#32
  | 80 => 0x3E8E5DF7#32
  | 81 => 0x3D4F3912#32
  | 82 => 0x3E7CDB9C#32
  | 83 => 0xBE082894#32
  | 84 => 0x3F3564E1#32
  | 85 => 0x3F83A18A#32
  | 86 => 0x3F96DF28#32
  | 87 => 0x3EC08D0F#32
  | 88 => 0xBF9A2C73#32
  | 89 => 0x3F8CE8A6#32
  | 90 => 0xBE231236#32
  | 91 => 0x3F370A21#32
  | 92 => 0xBF8185B7#32
  | 93 => 0x3FC1E2C1#32
  | 94 => 0x409C2EC8#32
  | 95 => 0x402791D0#32
  | 96 => 0xBD23046A#32
  | 97 => 0x3F5D246A#32
  | 98 => 0x3E72F929#32
  | 99 => 0xBEB87E68#32
  | 100 => 0x3F6EA7D8#32
  | 101 => 0xBE3CC4E3#32
  | 102 => 0xBEC9B5F0#32
  | 103 => 0xBD6EC1D8#32
  | 104 => 0xBF3B0419#32
  | 105 => 0xBE0DAAB3#32
  | 106 => 0x3FAF51D4#32
  | 107 => 0xBD385EDE#32
  | 108 => 0x3FBFBADB#32
  | 109 => 0x3F3C05CE#32
  | 110 => 0xBDCBCDEF#32
  | 111 => 0x3FECEB29#32
  | 112 => 0xBF5DF8B8#32
  | 113 => 0x3F863306#32
  | 114 => 0x406C168F#32
  | 115 => 0x3EAF3987#32
  | 116 => 0x3F961EC0#32
  | 117 => 0xBEBF1D06#32
  | 118 => 0x3E9B120F#32
  | 119 => 0x3FCD1920#32
  | 120 => 0x4024E8D4#32
  | 121 => 0xBF3774A2#32
  | 122 => 0x401D32EC#32
  | 123 => 0x3F21B658#32
  | 124 => 0xBF898398#32
  | 125 => 0x3F5EBE54#32
  | 126 => 0xBF7104CC#32
  | 127 => 0xBEDB4FAF#32
  | _ => 0#32

noncomputable abbrev lit0t0_927 (i : Nat) : BitVec 32 := match i % 128 with
  | 0 => 0x3F9174DE#32
  | 1 => 0x4028B911#32
  | 2 => 0x3F6D6A9D#32
  | 3 => 0xBF485540#32
  | 4 => 0xBE6255A8#32
  | 5 => 0x40812EEC#32
  | 6 => 0x3E898398#32
  | 7 => 0xBEC397BE#32
  | 8 => 0x3E7D5D4A#32
  | 9 => 0x4019248E#32
  | 10 => 0x3F5C896C#32
  | 11 => 0x3F6A9ED1#32
  | 12 => 0xBF617C2C#32
  | 13 => 0xBEEFD738#32
  | 14 => 0x400595F9#32
  | 15 => 0xBE65E8EB#32
  | 16 => 0xBE14796D#32
  | 17 => 0x3EF2991F#32
  | 18 => 0x4040DEAF#32
  | 19 => 0xBE99FA51#32
  | 20 => 0x3E73043B#32
  | 21 => 0x4038A02E#32
  | 22 => 0xBFB32511#32
  | 23 => 0xC01842BB#32
  | 24 => 0xBEE3F82F#32
  | 25 => 0xBE66BBBF#32
  | 26 => 0x3F55F440#32
  | 27 => 0xBF0356A0#32
  | 28 => 0x3F1E2F1D#32
  | 29 => 0x3FA5F061#32
  | 30 => 0xBFD6428D#32
  | 31 => 0xBF7E396C#32
  | 32 => 0x3FA8F37C#32
  | 33 => 0x3F096A6B#32
  | 34 => 0x40713AC2#32
  | 35 => 0x3FA67498#32
  | 36 => 0x3F59668A#32
  | 37 => 0xBF86B8DD#32
  | 38 => 0xBE4B797F#32
  | 39 => 0x4034515C#32
  | 40 => 0x4060AE1D#32
  | 41 => 0x3FA12160#32
  | 42 => 0x402AF6E6#32
  | 43 => 0x3F7C7A2C#32
  | 44 => 0x3FE3D83E#32
  | 45 => 0x3FB0219A#32
  | 46 => 0x3F06EF4C#32
  | 47 => 0x3F6A80C8#32
  | 48 => 0x3F045E65#32
  | 49 => 0x4041B9DA#32
  | 50 => 0x3F527766#32
  | 51 => 0xBEC1A27C#32
  | 52 => 0xBF50B33E#32
  | 53 => 0x3F38B0AB#32
  | 54 => 0x3DE71A85#32
  | 55 => 0x3E10B1DA#32
  | 56 => 0x3E741235#32
  | 57 => 0xBDDAE9EA#32
  | 58 => 0x3E90349C#32
  | 59 => 0x3F99EBD8#32
  | 60 => 0xBFB1BE37#32
  | 61 => 0x3EC3988A#32
  | 62 => 0xBF0459E6#32
  | 63 => 0x3E4D934A#32
  | 64 => 0x3FBD9639#32
  | 65 => 0x3E1AB3F6#32
  | 66 => 0x3EBC1E88#32
  | 67 => 0xBEF9BF70#32
  | 68 => 0x3F17EC85#32
  | 69 => 0x3F870223#32
  | 70 => 0xBEAF6580#32
  | 71 => 0x3F9FCC7F#32
  | 72 => 0x3FB9F259#32
  | 73 => 0x3F2DEE8C#32
  | 74 => 0x3F4A938B#32
  | 75 => 0x3ED75657#32
  | 76 => 0x404F58D0#32
  | 77 => 0xBE849EA6#32
  | 78 => 0xBD3E441E#32
  | 79 => 0x3C270430#32
  | 80 => 0x3E880E21#32
  | 81 => 0xBF840E99#32
  | 82 => 0x3FEB0438#32
  | 83 => 0x3FC86BF6#32
  | 84 => 0x403E8DFB#32
  | 85 => 0xBFAED620#32
  | 86 => 0x3FF62147#32
  | 87 => 0x3EB114EF#32
  | 88 => 0xBFE07FB2#32
  | 89 => 0xBF15B6B5#32
  | 90 => 0x3F63B513#32
  | 91 => 0xBE626745#32
  | 92 => 0x3FF4F4DA#32
  | 93 => 0x3F15C3B1#32
  | 94 => 0xBE0EFCDE#32
  | 95 => 0x3FD42EA0#32
  | 96 => 0xBF837346#32
  | 97 => 0xBFD7C7BE#32
  | 98 => 0x3FDEF62A#32
  | 99 => 0xBE1A4D21#32
  | 100 => 0x3E5D63BE#32
  | 101 => 0xBD592170#32
  | 102 => 0xBF6E0B30#32
  | 103 => 0x3F4604D2#32
  | 104 => 0x3FE376AC#32
  | 105 => 0xBF1CDF05#32
  | 106 => 0xBE6DC121#32
  | 107 => 0xBF86BE52#32
  | 108 => 0x3FD52CAC#32
  | 109 => 0x3EA1AC99#32
  | 110 => 0x3E86AB47#32
  | 111 => 0x3EFE70CE#32
  | 112 => 0x3FAFC435#32
  | 113 => 0x4015EE3C#32
  | 114 => 0x3FE317A8#32
  | 115 => 0x3EA3B5FA#32
  | 116 => 0x3F5858A2#32
  | 117 => 0x3F27BC90#32
  | 118 => 0x40091CCD#32
  | 119 => 0x3E97592D#32
  | 120 => 0xBE4A3C96#32
  | 121 => 0xBEF9BE8E#32
  | 122 => 0xBF0A89E5#32
  | 123 => 0xBF08A42F#32
  | 124 => 0x3EC47E3E#32
  | 125 => 0x3F3801AB#32
  | 126 => 0x40452A4A#32
  | 127 => 0xBFC3475F#32
  | _ => 0#32

noncomputable abbrev lit0t0_928 (i : Nat) : BitVec 32 := match i % 128 with
  | 0 => 0x3F1B37D3#32
  | 1 => 0x401A17C2#32
  | 2 => 0xBEE30D26#32
  | 3 => 0x3FA26373#32
  | 4 => 0x3F354173#32
  | 5 => 0xBF03B616#32
  | 6 => 0xBF5FAE20#32
  | 7 => 0xBE8C1689#32
  | 8 => 0x3FB4D5FC#32
  | 9 => 0x3EA90C79#32
  | 10 => 0x3E83CCAE#32
  | 11 => 0xBD75BA7D#32
  | 12 => 0x3F8D2F15#32
  | 13 => 0x3FCA4441#32
  | 14 => 0xBF3F1706#32
  | 15 => 0x4007C66A#32
  | 16 => 0x3E9C40DD#32
  | 17 => 0xBF41EAF5#32
  | 18 => 0x3EEFF4A2#32
  | 19 => 0x3F5B61C9#32
  | 20 => 0xBF56721A#32
  | 21 => 0x3E102A43#32
  | 22 => 0x3F5D3620#32
  | 23 => 0x3F6ED14E#32
  | 24 => 0x401BBA02#32
  | 25 => 0xBF3C48F7#32
  | 26 => 0x3F9228CE#32
  | 27 => 0xBF409A09#32
  | 28 => 0xBF1D0F1E#32
  | 29 => 0x3FA1A8D9#32
  | 30 => 0x3F17E782#32
  | 31 => 0x3FEA1CE0#32
  | 32 => 0x3FF341D9#32
  | 33 => 0x3F99E65E#32
  | 34 => 0xBEC514B9#32
  | 35 => 0x3ECE113C#32
  | 36 => 0x3F5EF2D2#32
  | 37 => 0x3F894A9C#32
  | 38 => 0x3F4AFECC#32
  | 39 => 0x3ECD0AA2#32
  | 40 => 0x3FBB1CF3#32
  | 41 => 0xBED0060A#32
  | 42 => 0xBB7906BA#32
  | 43 => 0x3FE498DE#32
  | 44 => 0x3F851213#32
  | 45 => 0x3C9C5B73#32
  | 46 => 0x3F300489#32
  | 47 => 0xBD27ABB8#32
  | 48 => 0xBFAFABEF#32
  | 49 => 0x3FAF501A#32
  | 50 => 0xBE1D1C10#32
  | 51 => 0x40D2E3AD#32
  | 52 => 0x3EBCC8D9#32
  | 53 => 0xBF50F77D#32
  | 54 => 0x3ED93EF4#32
  | 55 => 0xBF8967B7#32
  | 56 => 0x3FAC1BEF#32
  | 57 => 0x3F170594#32
  | 58 => 0xBF0AD4FE#32
  | 59 => 0xBF95777A#32
  | 60 => 0x3EAFDB09#32
  | 61 => 0xBFAD9CC6#32
  | 62 => 0xBE023F86#32
  | 63 => 0xBE8315EA#32
  | 64 => 0x3FEA940E#32
  | 65 => 0xBEAAFDA4#32
  | 66 => 0x3E49536D#32
  | 67 => 0x3EE6DC69#32
  | 68 => 0x3E0BEFBB#32
  | 69 => 0x3F3BBA8D#32
  | 70 => 0x3E90E00A#32
  | 71 => 0x400499CD#32
  | 72 => 0xBF2AC4DB#32
  | 73 => 0x40215B81#32
  | 74 => 0x3F0F2326#32
  | 75 => 0xBF7B0668#32
  | 76 => 0x3F4F2248#32
  | 77 => 0xBE7D31A5#32
  | 78 => 0x407D4531#32
  | 79 => 0x40B04067#32
  | 80 => 0x3F94F352#32
  | 81 => 0xBF7BE460#32
  | 82 => 0x4069413E#32
  | 83 => 0x3EC3BEEA#32
  | 84 => 0x3D5CEE00#32
  | 85 => 0xBEF0C006#32
  | 86 => 0xBF498D06#32
  | 87 => 0xBEA0A6C0#32
  | 88 => 0xBEB9DC29#32
  | 89 => 0x40266D17#32
  | 90 => 0x3D74FC26#32
  | 91 => 0x3FD65956#32
  | 92 => 0xBDD6868E#32
  | 93 => 0x3F93A2A5#32
  | 94 => 0xBE7E0900#32
  | 95 => 0xBF066C49#32
  | 96 => 0xBF0A63F0#32
  | 97 => 0x3EA7BE48#32
  | 98 => 0xBF72166F#32
  | 99 => 0xBEB182F3#32
  | 100 => 0x3FA142AA#32
  | 101 => 0x3F360D2D#32
  | 102 => 0xBF8F8294#32
  | 103 => 0x40B13D94#32
  | 104 => 0xBFB66BD5#32
  | 105 => 0xBE5871B3#32
  | 106 => 0x3F858465#32
  | 107 => 0x3EB13CC4#32
  | 108 => 0xBDA9A956#32
  | 109 => 0x3FB237A1#32
  | 110 => 0xBF7282B4#32
  | 111 => 0xBE3C0340#32
  | 112 => 0x400CC097#32
  | 113 => 0x3F1BA4EF#32
  | 114 => 0x3FD3ACF5#32
  | 115 => 0x3FC776BE#32
  | 116 => 0x3F0F0A13#32
  | 117 => 0x3F91115B#32
  | 118 => 0xBFBA175A#32
  | 119 => 0x40561223#32
  | 120 => 0x3FF3EDF0#32
  | 121 => 0x3FA8524A#32
  | 122 => 0x3D7016E8#32
  | 123 => 0xBFA4F58D#32
  | 124 => 0xBD47A513#32
  | 125 => 0x3F392ABD#32
  | 126 => 0xBFAAAC12#32
  | 127 => 0x3FE303F6#32
  | _ => 0#32

noncomputable abbrev lit0t0_929 (i : Nat) : BitVec 32 := match i % 128 with
  | 0 => 0x3FCA4322#32
  | 1 => 0xBE3AD546#32
  | 2 => 0xBF9EC81F#32
  | 3 => 0xBF66639A#32
  | 4 => 0x3F4C2F27#32
  | 5 => 0x3F8ABED0#32
  | 6 => 0xBE531B8C#32
  | 7 => 0x3F06542F#32
  | 8 => 0xBFAB3855#32
  | 9 => 0x3E820CF3#32
  | 10 => 0xBEDCADF1#32
  | 11 => 0xBF21780E#32
  | 12 => 0x3E34BDC7#32
  | 13 => 0x3E9CC7EC#32
  | 14 => 0xBF4038A0#32
  | 15 => 0xBF984E2E#32
  | 16 => 0x3F8C3BA4#32
  | 17 => 0xBF23ECC5#32
  | 18 => 0x3F022E0F#32
  | 19 => 0x3F3A0B83#32
  | 20 => 0x3FA33B84#32
  | 21 => 0x3F17A8D8#32
  | 22 => 0x3CC7D35E#32
  | 23 => 0xBEB8C72E#32
  | 24 => 0x3F565FAA#32
  | 25 => 0x3F1E8DEA#32
  | 26 => 0x3F33CF49#32
  | 27 => 0x3F512B32#32
  | 28 => 0x3FB4B097#32
  | 29 => 0x3FA98C2D#32
  | 30 => 0xBE9E4059#32
  | 31 => 0x3F10EF34#32
  | 32 => 0x3FA20ADF#32
  | 33 => 0x3DDFD301#32
  | 34 => 0x40275AC3#32
  | 35 => 0x4024159E#32
  | 36 => 0x400DAA76#32
  | 37 => 0x3D9C083E#32
  | 38 => 0x3E66B369#32
  | 39 => 0x405ADED0#32
  | 40 => 0x3FCCEBA1#32
  | 41 => 0xBF5B21B6#32
  | 42 => 0x3FA7EA23#32
  | 43 => 0x3F8CD5FA#32
  | 44 => 0x3F153815#32
  | 45 => 0x3FD35FFA#32
  | 46 => 0x3EE6AE20#32
  | 47 => 0x40804775#32
  | 48 => 0x3F502955#32
  | 49 => 0xBF25E694#32
  | 50 => 0x3E9AC1D8#32
  | 51 => 0xBF403E66#32
  | 52 => 0x4018B7C9#32
  | 53 => 0xBE9E2D51#32
  | 54 => 0x4038BC00#32
  | 55 => 0xBF2CDF70#32
  | 56 => 0x3F42C298#32
  | 57 => 0x3F5D4790#32
  | 58 => 0x3F229F91#32
  | 59 => 0xBF53C850#32
  | 60 => 0x3F686C6D#32
  | 61 => 0x3F0B3CB6#32
  | 62 => 0xBEF0B86C#32
  | 63 => 0x4058ED8F#32
  | 64 => 0x3F71BFB4#32
  | 65 => 0xBF04D17F#32
  | 66 => 0xBE7BBF38#32
  | 67 => 0x404ADB54#32
  | 68 => 0x3F15DD67#32
  | 69 => 0x3FC39BA1#32
  | 70 => 0x3F9F4968#32
  | 71 => 0xBEA7157A#32
  | 72 => 0x3F8435F5#32
  | 73 => 0x3E2E0833#32
  | 74 => 0xBF387A12#32
  | 75 => 0x3F395F6F#32
  | 76 => 0xBE19104F#32
  | 77 => 0x3E970888#32
  | 78 => 0x40248903#32
  | 79 => 0x3FF6310E#32
  | 80 => 0x3F606636#32
  | 81 => 0x3E2EF786#32
  | 82 => 0x3E93B28D#32
  | 83 => 0x3EC135C1#32
  | 84 => 0xBE019B4D#32
  | 85 => 0xBE982E3B#32
  | 86 => 0x3FBEA926#32
  | 87 => 0x3FC54104#32
  | 88 => 0x4049A6FF#32
  | 89 => 0x3FA98E1C#32
  | 90 => 0x3E6A44B0#32
  | 91 => 0x3F7C0028#32
  | 92 => 0x3F25619E#32
  | 93 => 0x40A0BA61#32
  | 94 => 0x3FB09F45#32
  | 95 => 0x3EFB329B#32
  | 96 => 0x3F6D3E2F#32
  | 97 => 0xBF57183A#32
  | 98 => 0xBF095158#32
  | 99 => 0x3FD8B7EC#32
  | 100 => 0x3E0D5D25#32
  | 101 => 0xBF46FF4F#32
  | 102 => 0xBD1F0F0D#32
  | 103 => 0xBF6EA0A5#32
  | 104 => 0xBEF008F2#32
  | 105 => 0xBDE1C018#32
  | 106 => 0xBF48F05B#32
  | 107 => 0xBF8C5BC3#32
  | 108 => 0x3E2E8792#32
  | 109 => 0xBEB6AF6C#32
  | 110 => 0x4053A29D#32
  | 111 => 0x404EE02A#32
  | 112 => 0x3F68CC58#32
  | 113 => 0x3F0AD5FC#32
  | 114 => 0x401230AF#32
  | 115 => 0xBEE569FE#32
  | 116 => 0xBEDDCED4#32
  | 117 => 0x40149E88#32
  | 118 => 0x3FE4AFE2#32
  | 119 => 0x3D9ABF10#32
  | 120 => 0x403B3533#32
  | 121 => 0xBED0F3D2#32
  | 122 => 0x3F029B46#32
  | 123 => 0x4000F5E1#32
  | 124 => 0xBE6B71E6#32
  | 125 => 0x3F750403#32
  | 126 => 0xBDCBC717#32
  | 127 => 0x3F39826E#32
  | _ => 0#32

noncomputable abbrev lit0t0_930 (i : Nat) : BitVec 32 := match i % 128 with
  | 0 => 0x3FBF6A24#32
  | 1 => 0xBF43165F#32
  | 2 => 0x3F0720B2#32
  | 3 => 0x400F507C#32
  | 4 => 0x3F4E0D64#32
  | 5 => 0x3FA3EA8A#32
  | 6 => 0xBF8CB156#32
  | 7 => 0x406D8F10#32
  | 8 => 0x3F480886#32
  | 9 => 0x4085ADAF#32
  | 10 => 0xBEFB4330#32
  | 11 => 0x3F547B65#32
  | 12 => 0x3F997E3C#32
  | 13 => 0x3E8DF9C9#32
  | 14 => 0x3F899D99#32
  | 15 => 0x3F741CA9#32
  | 16 => 0xBF425040#32
  | 17 => 0xBDB565D6#32
  | 18 => 0x3F78F484#32
  | 19 => 0xBF2D1EB7#32
  | 20 => 0x3EF24E6E#32
  | 21 => 0xBE0584C2#32
  | 22 => 0xBEA92982#32
  | 23 => 0xBE31AF77#32
  | 24 => 0x3F05A621#32
  | 25 => 0xBE305D6B#32
  | 26 => 0xBDD57B7A#32
  | 27 => 0x3EE3F619#32
  | 28 => 0xBEB5EFBE#32
  | 29 => 0x3ED9E12C#32
  | 30 => 0x3F7F5F20#32
  | 31 => 0x3F403D94#32
  | 32 => 0x3F884B72#32
  | 33 => 0xBF0378A8#32
  | 34 => 0x4091A4F3#32
  | 35 => 0xC005EE10#32
  | 36 => 0x3E01A98B#32
  | 37 => 0x3FC7DAF0#32
  | 38 => 0xBEDEC6E9#32
  | 39 => 0xBF707C64#32
  | 40 => 0xBF389031#32
  | 41 => 0x3F8021B7#32
  | 42 => 0x3E3B6748#32
  | 43 => 0x3F47D5E7#32
  | 44 => 0x3F3F9694#32
  | 45 => 0x3F7F9C1A#32
  | 46 => 0x3F5730D4#32
  | 47 => 0x3FC73E05#32
  | 48 => 0xBF07228B#32
  | 49 => 0x40017D92#32
  | 50 => 0x3F07FD83#32
  | 51 => 0x3FB1CB51#32
  | 52 => 0x3FECDA43#32
  | 53 => 0x3F03D78C#32
  | 54 => 0x3F56C429#32
  | 55 => 0x3F1CB1B8#32
  | 56 => 0x3EEC3B8E#32
  | 57 => 0x3F928BF3#32
  | 58 => 0xBF5353D6#32
  | 59 => 0xBF93DFB0#32
  | 60 => 0xBF89585C#32
  | 61 => 0x4090F568#32
  | 62 => 0xBF6E1587#32
  | 63 => 0xBF203BCB#32
  | 64 => 0xBFA5EA91#32
  | 65 => 0x3FD81B0D#32
  | 66 => 0xBF18D8E8#32
  | 67 => 0x4001720F#32
  | 68 => 0xBDCC283B#32
  | 69 => 0xBF8D8346#32
  | 70 => 0x4001060E#32
  | 71 => 0x3F587AD2#32
  | 72 => 0xBF13CD0E#32
  | 73 => 0x3F2038EC#32
  | 74 => 0x3EA2B4F9#32
  | 75 => 0x40AC2899#32
  | 76 => 0xBE9614A2#32
  | 77 => 0x3E07B7D5#32
  | 78 => 0x3F1D200D#32
  | 79 => 0x3E2E7564#32
  | 80 => 0x3E7AAE80#32
  | 81 => 0xBE203A6B#32
  | 82 => 0xBF90E8CC#32
  | 83 => 0x3E419168#32
  | 84 => 0x3EDF1C4A#32
  | 85 => 0x401BDF8B#32
  | 86 => 0x3F30D0B9#32
  | 87 => 0x3FC74C00#32
  | 88 => 0xBEB75727#32
  | 89 => 0xBEAD294A#32
  | 90 => 0x3FBCCBD7#32
  | 91 => 0x3EB773E9#32
  | 92 => 0x3E7930B0#32
  | 93 => 0x3F786B5C#32
  | 94 => 0xBE524FC4#32
  | 95 => 0x3F0DE010#32
  | 96 => 0x3FF1E19E#32
  | 97 => 0x3E44BF1F#32
  | 98 => 0xBECD300C#32
  | 99 => 0x3FB5F176#32
  | 100 => 0x3F85F71B#32
  | 101 => 0x400B247A#32
  | 102 => 0x3EB6A0BC#32
  | 103 => 0xBED043BE#32
  | 104 => 0x3FCF28FE#32
  | 105 => 0xBF100581#32
  | 106 => 0x3F86099A#32
  | 107 => 0x407D7C12#32
  | 108 => 0x3EB844DB#32
  | 109 => 0x3FB871D8#32
  | 110 => 0x3E958887#32
  | 111 => 0xBF0756EE#32
  | 112 => 0x3EA7AB54#32
  | 113 => 0x3E93CC46#32
  | 114 => 0xBF84E7B0#32
  | 115 => 0xBF4DCF6B#32
  | 116 => 0x3EAD5A47#32
  | 117 => 0xBD3C98D7#32
  | 118 => 0xBFCFAC1A#32
  | 119 => 0x3EF04080#32
  | 120 => 0x3F255F2E#32
  | 121 => 0x3F56A471#32
  | 122 => 0x3F2B8948#32
  | 123 => 0xBF874096#32
  | 124 => 0x3E866625#32
  | 125 => 0x3F8620D9#32
  | 126 => 0x3F08E24F#32
  | 127 => 0x3E177971#32
  | _ => 0#32

noncomputable abbrev lit0t0_931 (i : Nat) : BitVec 32 := match i % 128 with
  | 0 => 0x3E94BDFC#32
  | 1 => 0x3D4F5036#32
  | 2 => 0xBEA3AC19#32
  | 3 => 0xBD9123A1#32
  | 4 => 0xBF5AAF22#32
  | 5 => 0x3F1E7DE1#32
  | 6 => 0xBF586B32#32
  | 7 => 0x408019BD#32
  | 8 => 0x3F611EF4#32
  | 9 => 0xBE75927A#32
  | 10 => 0xBF31AE17#32
  | 11 => 0x3C54BF13#32
  | 12 => 0x3EF480BF#32
  | 13 => 0x3E909C98#32
  | 14 => 0x3FA5F94C#32
  | 15 => 0x3FC988BD#32
  | 16 => 0x3F82FA67#32
  | 17 => 0xBF16F106#32
  | 18 => 0x3E2AB91E#32
  | 19 => 0x3F14A8E8#32
  | 20 => 0xBEA521B1#32
  | 21 => 0xBECD6324#32
  | 22 => 0x3FC5F6DC#32
  | 23 => 0xBF862266#32
  | 24 => 0xBDD580F0#32
  | 25 => 0xBF7A6BBE#32
  | 26 => 0x3E9E2073#32
  | 27 => 0xBF56772D#32
  | 28 => 0xBE774B50#32
  | 29 => 0x3F2063A7#32
  | 30 => 0xBFA8F636#32
  | 31 => 0x3FDAB49F#32
  | 32 => 0xBFB1BC04#32
  | 33 => 0xBF3FB66F#32
  | 34 => 0xBF998E11#32
  | 35 => 0x3FCB872A#32
  | 36 => 0x3F4F7DEE#32
  | 37 => 0xBFABAA97#32
  | 38 => 0xBFBD566B#32
  | 39 => 0x3F8D6E7C#32
  | 40 => 0xBFC3F38A#32
  | 41 => 0xBFA410DF#32
  | 42 => 0x3F46A214#32
  | 43 => 0x3F0F7080#32
  | 44 => 0xBF483E18#32
  | 45 => 0x3F6A48DB#32
  | 46 => 0xBE7FA7DC#32
  | 47 => 0x40481809#32
  | 48 => 0x3F17B642#32
  | 49 => 0x3F031369#32
  | 50 => 0x3F91CD1C#32
  | 51 => 0xBF21B9EF#32
  | 52 => 0x3EC3A789#32
  | 53 => 0x3FDEBD4C#32
  | 54 => 0x3F8AF86C#32
  | 55 => 0x408F959A#32
  | 56 => 0x3FB269C2#32
  | 57 => 0x3FEB3E98#32
  | 58 => 0xBFBD9B03#32
  | 59 => 0xBF5FAD5E#32
  | 60 => 0x406C2F02#32
  | 61 => 0x406AA2B3#32
  | 62 => 0x3FD0B7E0#32
  | 63 => 0x401CD113#32
  | 64 => 0x3E885A8D#32
  | 65 => 0x4055002C#32
  | 66 => 0x3F20307F#32
  | 67 => 0xBF0BE016#32
  | 68 => 0xBF87AC4F#32
  | 69 => 0x3F29D8D2#32
  | 70 => 0x3FCEA784#32
  | 71 => 0x3E86BF04#32
  | 72 => 0x3E83AEE9#32
  | 73 => 0x3E5E0E41#32
  | 74 => 0x3F0A88BC#32
  | 75 => 0x3EC37C5B#32
  | 76 => 0x3F34F508#32
  | 77 => 0x3E8548EB#32
  | 78 => 0xBEB88DCE#32
  | 79 => 0x3F9BF448#32
  | 80 => 0x3E378A48#32
  | 81 => 0xBF20884D#32
  | 82 => 0x3FAA1258#32
  | 83 => 0xBE320717#32
  | 84 => 0x3E45EAB6#32
  | 85 => 0x40233107#32
  | 86 => 0xBDA400D6#32
  | 87 => 0x3FDA5CE7#32
  | 88 => 0x3F4D4563#32
  | 89 => 0xBEDCF92C#32
  | 90 => 0xBBE93EFB#32
  | 91 => 0x3FCFDE96#32
  | 92 => 0x3F892CBC#32
  | 93 => 0xBDB11D9D#32
  | 94 => 0x400E0216#32
  | 95 => 0x3E8DC44A#32
  | 96 => 0xBEAF473B#32
  | 97 => 0x3FCB58D2#32
  | 98 => 0x3FC1F21E#32
  | 99 => 0x3E982733#32
  | 100 => 0xBF007D80#32
  | 101 => 0x3F83858A#32
  | 102 => 0x3AE49D02#32
  | 103 => 0xBF8D03F0#32
  | 104 => 0xBF334DC9#32
  | 105 => 0x3E75E7E6#32
  | 106 => 0x4056C0A4#32
  | 107 => 0x3F06EE08#32
  | 108 => 0x3EA9FA31#32
  | 109 => 0x4037A319#32
  | 110 => 0xBF0D6F16#32
  | 111 => 0x3F1ADC62#32
  | 112 => 0xBEA6B2DB#32
  | 113 => 0xBE9B0249#32
  | 114 => 0xBF88FDB2#32
  | 115 => 0xBF90807E#32
  | 116 => 0xBD4A1A16#32
  | 117 => 0x3F6851C2#32
  | 118 => 0x3FB32E8C#32
  | 119 => 0x3F70571A#32
  | 120 => 0xBD94E6C2#32
  | 121 => 0x3F49891C#32
  | 122 => 0x3F7C04CE#32
  | 123 => 0x3F6625D2#32
  | 124 => 0x3FB21FCB#32
  | 125 => 0xBEF5B016#32
  | 126 => 0xBF324A15#32
  | 127 => 0xBE5BC2E7#32
  | _ => 0#32

noncomputable abbrev lit0t0_932 (i : Nat) : BitVec 32 := match i % 128 with
  | 0 => 0x3FB50257#32
  | 1 => 0x3DDC5B34#32
  | 2 => 0x3E5EA67A#32
  | 3 => 0x401BDC5B#32
  | 4 => 0xBEA5571E#32
  | 5 => 0x3EDD699D#32
  | 6 => 0xBF4B945E#32
  | 7 => 0xBF3C7921#32
  | 8 => 0x3E9F03C7#32
  | 9 => 0x3FB15941#32
  | 10 => 0x3EC91992#32
  | 11 => 0x40359F61#32
  | 12 => 0xBFD21042#32
  | 13 => 0x3F8FE415#32
  | 14 => 0x3E94FB61#32
  | 15 => 0xBF65FF3C#32
  | 16 => 0x3F835C04#32
  | 17 => 0xBEDBC4AF#32
  | 18 => 0x4026F174#32
  | 19 => 0xBFCE7913#32
  | 20 => 0xBE8DF12C#32
  | 21 => 0xBF2F6D09#32
  | 22 => 0xBFB8E8D5#32
  | 23 => 0x3DA6B694#32
  | 24 => 0x3FF50DDF#32
  | 25 => 0x3F2B5F97#32
  | 26 => 0xBE31B389#32
  | 27 => 0x3FAD566B#32
  | 28 => 0x3DFFE9DF#32
  | 29 => 0xBF37BEB7#32
  | 30 => 0x3F8922B3#32
  | 31 => 0x3F0C23C8#32
  | 32 => 0xBC2C5B1A#32
  | 33 => 0x405432BD#32
  | 34 => 0xBF85854E#32
  | 35 => 0x3EB03F70#32
  | 36 => 0xBF0749F8#32
  | 37 => 0xBFFC2202#32
  | 38 => 0xBF9B4D37#32
  | 39 => 0x3E471FCA#32
  | 40 => 0x3FF59740#32
  | 41 => 0x3FA956A9#32
  | 42 => 0x3EC5B737#32
  | 43 => 0x3F0A6D05#32
  | 44 => 0x3F3049C4#32
  | 45 => 0x4092E6DD#32
  | 46 => 0x3E826225#32
  | 47 => 0x3ED00D81#32
  | 48 => 0x3FAAAE47#32
  | 49 => 0x3ECA737D#32
  | 50 => 0x3E88B665#32
  | 51 => 0xBF0FF616#32
  | 52 => 0x4092CAB7#32
  | 53 => 0x3EA03F97#32
  | 54 => 0x40111583#32
  | 55 => 0x404629AA#32
  | 56 => 0x3E8FB485#32
  | 57 => 0x4007B7DA#32
  | 58 => 0x3E89F781#32
  | 59 => 0x401B3A38#32
  | 60 => 0xBFA99586#32
  | 61 => 0x40088A99#32
  | 62 => 0xBFCF0688#32
  | 63 => 0xBEF043A2#32
  | 64 => 0x3EF6F077#32
  | 65 => 0xBD5DF04C#32
  | 66 => 0x3FC8CFA4#32
  | 67 => 0xBD9D0560#32
  | 68 => 0x3E9F8076#32
  | 69 => 0x3F2CCFA2#32
  | 70 => 0x3FAFDB67#32
  | 71 => 0x3D915965#32
  | 72 => 0x3F5F7119#32
  | 73 => 0x3F130C8F#32
  | 74 => 0xBF80EB44#32
  | 75 => 0xBDF6AE17#32
  | 76 => 0xBF7128F0#32
  | 77 => 0x4069172D#32
  | 78 => 0x3F39A6F3#32
  | 79 => 0x3DCB532B#32
  | 80 => 0x3FBBCC2B#32
  | 81 => 0x3FD16021#32
  | 82 => 0xBEBE1FDE#32
  | 83 => 0x3E760F28#32
  | 84 => 0x3F9F1EE8#32
  | 85 => 0x3E268644#32
  | 86 => 0x40069865#32
  | 87 => 0x40395FA8#32
  | 88 => 0x4041DED2#32
  | 89 => 0xBE86DCE2#32
  | 90 => 0x3F1CB445#32
  | 91 => 0xBEF79764#32
  | 92 => 0xBF5B63EC#32
  | 93 => 0x404E0810#32
  | 94 => 0x3F1E964A#32
  | 95 => 0x3DFF6329#32
  | 96 => 0x40B96065#32
  | 97 => 0xBCF608E2#32
  | 98 => 0xBE5008A3#32
  | 99 => 0x40074B5A#32
  | 100 => 0xBF6F7571#32
  | 101 => 0xBECC14CA#32
  | 102 => 0xBFB1F13C#32
  | 103 => 0x3E10988C#32
  | 104 => 0x3F8B3BA6#32
  | 105 => 0xBF102576#32
  | 106 => 0x3FD406D8#32
  | 107 => 0x4063E1B4#32
  | 108 => 0x3F5F2D40#32
  | 109 => 0xBF9C207A#32
  | 110 => 0x3FB61A36#32
  | 111 => 0xBE318636#32
  | 112 => 0x3E4BC96F#32
  | 113 => 0x40023875#32
  | 114 => 0x3F505906#32
  | 115 => 0x3F49A72E#32
  | 116 => 0x3FD96C4D#32
  | 117 => 0xBFB5A9EB#32
  | 118 => 0xBDFBAD54#32
  | 119 => 0x3ED42D58#32
  | 120 => 0x3EE1774B#32
  | 121 => 0xBE4F7AE5#32
  | 122 => 0x3F38E35A#32
  | 123 => 0xBF31CF95#32
  | 124 => 0xBF401761#32
  | 125 => 0x3F55E36F#32
  | 126 => 0x4061E5A6#32
  | 127 => 0xBF88041C#32
  | _ => 0#32

noncomputable abbrev lit0t0_933 (i : Nat) : BitVec 32 := match i % 128 with
  | 0 => 0x3E694117#32
  | 1 => 0x3DC59C9A#32
  | 2 => 0x40AC70E0#32
  | 3 => 0x400D5178#32
  | 4 => 0x3F7F5686#32
  | 5 => 0x3DD47784#32
  | 6 => 0xBF6C3BF0#32
  | 7 => 0xBF36075B#32
  | 8 => 0x40138CE1#32
  | 9 => 0xBEDA41E8#32
  | 10 => 0x3F816D9A#32
  | 11 => 0xBE7FC035#32
  | 12 => 0xBEDED0C7#32
  | 13 => 0x4006986E#32
  | 14 => 0x3F0E5D72#32
  | 15 => 0x3F8AE08C#32
  | 16 => 0x3D1266E3#32
  | 17 => 0xBF14BDAF#32
  | 18 => 0xBEA09B38#32
  | 19 => 0x40A2D8BF#32
  | 20 => 0xBF1F8544#32
  | 21 => 0xBE673533#32
  | 22 => 0x3E0E3A69#32
  | 23 => 0x401987CE#32
  | 24 => 0x3FD9325F#32
  | 25 => 0xBEB9331A#32
  | 26 => 0xBF94CDFE#32
  | 27 => 0xBEC67A7C#32
  | 28 => 0x3FCB685B#32
  | 29 => 0xBF826BFA#32
  | 30 => 0x40102867#32
  | 31 => 0x3FE30AFF#32
  | 32 => 0xBFDD8C6B#32
  | 33 => 0x3F1139B5#32
  | 34 => 0xBF80D443#32
  | 35 => 0xBFE76D9A#32
  | 36 => 0x3FA0A562#32
  | 37 => 0x3F10157C#32
  | 38 => 0xBE4B2155#32
  | 39 => 0x3F595003#32
  | 40 => 0xBF843928#32
  | 41 => 0x3F70DEBC#32
  | 42 => 0x3EFBD5C2#32
  | 43 => 0x3EA88F31#32
  | 44 => 0x3F31E4DC#32
  | 45 => 0x3FE7CCD2#32
  | 46 => 0xBD686652#32
  | 47 => 0xBF353329#32
  | 48 => 0x3ED61B10#32
  | 49 => 0xBF3134EC#32
  | 50 => 0x3FD7EB34#32
  | 51 => 0x3E85196C#32
  | 52 => 0x404F7BBF#32
  | 53 => 0x3FA40C8A#32
  | 54 => 0xBDBB4F48#32
  | 55 => 0x3F94C49E#32
  | 56 => 0xBE32465A#32
  | 57 => 0x3EBE4031#32
  | 58 => 0xBFAB7D48#32
  | 59 => 0xBDE0681D#32
  | 60 => 0x3C9A94C7#32
  | 61 => 0x3F76FA7E#32
  | 62 => 0x3E87ED72#32
  | 63 => 0xBE6E298F#32
  | 64 => 0xBF3A12DA#32
  | 65 => 0x3F86D8C8#32
  | 66 => 0xBE51489A#32
  | 67 => 0xBF2C7206#32
  | 68 => 0x3F40940A#32
  | 69 => 0x3EF69F26#32
  | 70 => 0xBEFA6C22#32
  | 71 => 0xBFA9C039#32
  | 72 => 0x3FC1BE22#32
  | 73 => 0x3EB7AB46#32
  | 74 => 0xBE17392E#32
  | 75 => 0x3E1CCF80#32
  | 76 => 0x3E434A38#32
  | 77 => 0x3E1D20DC#32
  | 78 => 0x3F53B86E#32
  | 79 => 0x3FEAF06C#32
  | 80 => 0x3F914124#32
  | 81 => 0x404DC24D#32
  | 82 => 0x403A2EA9#32
  | 83 => 0xBEAC017F#32
  | 84 => 0xBE8BB49A#32
  | 85 => 0x3F09E8E7#32
  | 86 => 0x3EB64662#32
  | 87 => 0x3F079E1D#32
  | 88 => 0x3DDEAF7D#32
  | 89 => 0x3DFCD60B#32
  | 90 => 0xBAB18137#32
  | 91 => 0x4033A449#32
  | 92 => 0xBEBA92D2#32
  | 93 => 0x3FD416B9#32
  | 94 => 0xBF0C449B#32
  | 95 => 0xBEF92F15#32
  | 96 => 0x3FCFBA16#32
  | 97 => 0xBE260CBD#32
  | 98 => 0x4030EC9D#32
  | 99 => 0x3C81AA12#32
  | 100 => 0x3DECC843#32
  | 101 => 0xBF1F62CB#32
  | 102 => 0x3F96FB01#32
  | 103 => 0xBDA0FF16#32
  | 104 => 0xBDFAFC7C#32
  | 105 => 0x3DFD0E5E#32
  | 106 => 0x40A9586C#32
  | 107 => 0xBF11F467#32
  | 108 => 0x3F5A05EE#32
  | 109 => 0x3F3781AB#32
  | 110 => 0xBF0F2955#32
  | 111 => 0x3F966A37#32
  | 112 => 0xBE5E8969#32
  | 113 => 0x3F183668#32
  | 114 => 0xBECBF616#32
  | 115 => 0x3F277DDE#32
  | 116 => 0x3E01843C#32
  | 117 => 0x401933E7#32
  | 118 => 0xBF0CE9F9#32
  | 119 => 0x3FCA2F19#32
  | 120 => 0x3F7BA37A#32
  | 121 => 0x3F261AEF#32
  | 122 => 0x3F6B55CC#32
  | 123 => 0x402E849D#32
  | 124 => 0xBF8CCE36#32
  | 125 => 0x3FDF8AFA#32
  | 126 => 0x3E1F1997#32
  | 127 => 0x3F178808#32
  | _ => 0#32

noncomputable abbrev lit0t0_934 (i : Nat) : BitVec 32 := match i % 128 with
  | 0 => 0xBF5F7C00#32
  | 1 => 0xBEEC8AC6#32
  | 2 => 0x3DE44CFC#32
  | 3 => 0x3F11C236#32
  | 4 => 0xBFBD0326#32
  | 5 => 0x3F7F8AC2#32
  | 6 => 0xBE96C076#32
  | 7 => 0x400682AE#32
  | 8 => 0xBE87A987#32
  | 9 => 0x3EAC1E53#32
  | 10 => 0xBF353B64#32
  | 11 => 0xBE29FD48#32
  | 12 => 0xBF702B6C#32
  | 13 => 0x3F904918#32
  | 14 => 0xBD8C0596#32
  | 15 => 0x3FC74D36#32
  | 16 => 0xBE229880#32
  | 17 => 0x3F9647BC#32
  | 18 => 0x3F191407#32
  | 19 => 0xBEEB5B2A#32
  | 20 => 0xBDD8F06B#32
  | 21 => 0x3E63BD3D#32
  | 22 => 0x3EAFEFE9#32
  | 23 => 0x3EF586C6#32
  | 24 => 0xBF0E9866#32
  | 25 => 0x3FDDFA8E#32
  | 26 => 0x3F52C2C4#32
  | 27 => 0x3F98F0BB#32
  | 28 => 0x3EBC7020#32
  | 29 => 0xBC7B4C99#32
  | 30 => 0xBF12C96E#32
  | 31 => 0x3E000BE2#32
  | 32 => 0x3C72E527#32
  | 33 => 0xBF47E4EE#32
  | 34 => 0x40173AAE#32
  | 35 => 0xBEACFED0#32
  | 36 => 0x3FBA2C64#32
  | 37 => 0xBE19C19E#32
  | 38 => 0x40AF8570#32
  | 39 => 0x3FA86AE7#32
  | 40 => 0x3EFB944C#32
  | 41 => 0x408947F9#32
  | 42 => 0xBF1127AE#32
  | 43 => 0x400C250D#32
  | 44 => 0x3EEECE26#32
  | 45 => 0x3B418513#32
  | 46 => 0xBD6E4130#32
  | 47 => 0x3EF856EB#32
  | 48 => 0x3FB1D443#32
  | 49 => 0xBF9F68E1#32
  | 50 => 0x3F9663ED#32
  | 51 => 0x3F94B376#32
  | 52 => 0x40628B40#32
  | 53 => 0xBEFABD0C#32
  | 54 => 0x3F56F2AD#32
  | 55 => 0x3F26A0A4#32
  | 56 => 0xBF2537D1#32
  | 57 => 0x3FBCC9F9#32
  | 58 => 0x40A5E32D#32
  | 59 => 0x3FFE6223#32
  | 60 => 0x40699A66#32
  | 61 => 0x400F1C21#32
  | 62 => 0x3EEF3498#32
  | 63 => 0xBF8DD908#32
  | 64 => 0x3E99A068#32
  | 65 => 0x3FFEE611#32
  | 66 => 0x3F97F0E9#32
  | 67 => 0x3F936DE8#32
  | 68 => 0xBD5B43EA#32
  | 69 => 0x3F005027#32
  | 70 => 0x3FA82044#32
  | 71 => 0x3ED1110C#32
  | 72 => 0x3E5EAEA3#32
  | 73 => 0xBF084F70#32
  | 74 => 0xBF34D655#32
  | 75 => 0xBE2C176C#32
  | 76 => 0xBD03DC84#32
  | 77 => 0x3DBD810D#32
  | 78 => 0xBEC5F8CA#32
  | 79 => 0xBF955D0F#32
  | 80 => 0x4012D63C#32
  | 81 => 0xBFC34D5C#32
  | 82 => 0x3F46A4C6#32
  | 83 => 0x401DFCCE#32
  | 84 => 0xBD19AE03#32
  | 85 => 0x3F7E34D4#32
  | 86 => 0x3FAF43D1#32
  | 87 => 0x3F489A14#32
  | 88 => 0xBEFE6D8A#32
  | 89 => 0x3FC9F39A#32
  | 90 => 0xBF76C3D8#32
  | 91 => 0x40214E3C#32
  | 92 => 0xBF05996B#32
  | 93 => 0x3F201757#32
  | 94 => 0xBC649172#32
  | 95 => 0x3F15556F#32
  | 96 => 0x3F4F97F2#32
  | 97 => 0x40133FFA#32
  | 98 => 0xBD859F73#32
  | 99 => 0x3EB5C316#32
  | 100 => 0xBEF06D5D#32
  | 101 => 0x400055F6#32
  | 102 => 0x40468BC9#32
  | 103 => 0x3F24CC10#32
  | 104 => 0xBE136F1B#32
  | 105 => 0xBF74CCEE#32
  | 106 => 0xBF2F4CE2#32
  | 107 => 0x3E068504#32
  | 108 => 0x3CF7CC56#32
  | 109 => 0x3FBA2E4B#32
  | 110 => 0xBEEFE411#32
  | 111 => 0x3E1A97A1#32
  | 112 => 0x3EACB641#32
  | 113 => 0xBF3979C2#32
  | 114 => 0x3FA2DDF2#32
  | 115 => 0x3C8E8301#32
  | 116 => 0x405CE5C9#32
  | 117 => 0x3F04E83F#32
  | 118 => 0x3F1706B7#32
  | 119 => 0xBCA7A16D#32
  | 120 => 0xBEA75A7E#32
  | 121 => 0x3F074A4A#32
  | 122 => 0x4017FE61#32
  | 123 => 0x3FA627BE#32
  | 124 => 0xBE9156C2#32
  | 125 => 0xBF50E72C#32
  | 126 => 0x4011BC0C#32
  | 127 => 0x3F863649#32
  | _ => 0#32

noncomputable abbrev lit0t0_935 (i : Nat) : BitVec 32 := match i % 128 with
  | 0 => 0xBFCF3633#32
  | 1 => 0x40B409AB#32
  | 2 => 0x3DCFBBA3#32
  | 3 => 0xBEB9AB25#32
  | 4 => 0xBE071A83#32
  | 5 => 0x400C0DC0#32
  | 6 => 0x3F38D592#32
  | 7 => 0x3F245A90#32
  | 8 => 0xBCA70527#32
  | 9 => 0xBEDFA700#32
  | 10 => 0xBC304A53#32
  | 11 => 0x3E8419CB#32
  | 12 => 0xBEEFE443#32
  | 13 => 0x3FB4CD3F#32
  | 14 => 0x3F428022#32
  | 15 => 0x3FA0C742#32
  | 16 => 0x402750CD#32
  | 17 => 0x3F3D5DBA#32
  | 18 => 0xBE94D1AE#32
  | 19 => 0x3E20C0EE#32
  | 20 => 0xBF96084B#32
  | 21 => 0x3E29535E#32
  | 22 => 0x4020F840#32
  | 23 => 0x3EE64674#32
  | 24 => 0x3F463BD7#32
  | 25 => 0xBEF0EE20#32
  | 26 => 0x3EC56B8E#32
  | 27 => 0x3F85B5A8#32
  | 28 => 0x3EDB5EB9#32
  | 29 => 0xBEAD4A2D#32
  | 30 => 0xBE9659D0#32
  | 31 => 0xBE987493#32
  | 32 => 0x3F954F73#32
  | 33 => 0x3F3DB07D#32
  | 34 => 0xBFBE5C83#32
  | 35 => 0xBF936812#32
  | 36 => 0x3F2173D8#32
  | 37 => 0x3E0CB656#32
  | 38 => 0x3F30942C#32
  | 39 => 0xBF4806AC#32
  | 40 => 0x3FE6C738#32
  | 41 => 0xBF85E3CB#32
  | 42 => 0xBED781BB#32
  | 43 => 0x402C9BF3#32
  | 44 => 0x3DC7E471#32
  | 45 => 0xBF9E9822#32
  | 46 => 0x3E9D476D#32
  | 47 => 0x3F86F1F2#32
  | 48 => 0x3F94FFBB#32
  | 49 => 0x400A95AD#32
  | 50 => 0x3F407837#32
  | 51 => 0xBC9AC0EF#32
  | 52 => 0x3FDFE611#32
  | 53 => 0x3EC7F6F6#32
  | 54 => 0x3EA7031C#32
  | 55 => 0x3FBABCB9#32
  | 56 => 0x4005FD69#32
  | 57 => 0xBF8A6D66#32
  | 58 => 0x3EDC191A#32
  | 59 => 0xBF15B41E#32
  | 60 => 0x3F494CC1#32
  | 61 => 0xBF361096#32
  | 62 => 0x3E07F3A3#32
  | 63 => 0xBEEB5223#32
  | 64 => 0xBF4820ED#32
  | 65 => 0x3F0806C0#32
  | 66 => 0x3F092A57#32
  | 67 => 0x3F19F1C9#32
  | 68 => 0x3EF47A2F#32
  | 69 => 0x3E07FB59#32
  | 70 => 0x3E7A6A0D#32
  | 71 => 0xBA930EDF#32
  | 72 => 0xBEF9EAD0#32
  | 73 => 0x3E4A57E1#32
  | 74 => 0xBF262496#32
  | 75 => 0x408D5C56#32
  | 76 => 0x3FB84217#32
  | 77 => 0xBEDAB46A#32
  | 78 => 0xBF431EFC#32
  | 79 => 0x3EA35C97#32
  | 80 => 0xBF0D62C5#32
  | 81 => 0xBEA3053B#32
  | 82 => 0x3FF42B66#32
  | 83 => 0x405AB11B#32
  | 84 => 0x3F0A6EC5#32
  | 85 => 0xBEC61EFF#32
  | 86 => 0x3F80C806#32
  | 87 => 0xBEA4E3AB#32
  | 88 => 0xBE9088B2#32
  | 89 => 0x3FEC119C#32
  | 90 => 0xBF2A7BED#32
  | 91 => 0xBE416B78#32
  | 92 => 0x3EDC7ECF#32
  | 93 => 0x3EC23C2C#32
  | 94 => 0x3E16D7E5#32
  | 95 => 0xBF0F8C4B#32
  | 96 => 0xBF039B72#32
  | 97 => 0x3EABA8FF#32
  | 98 => 0xBF3A0E0A#32
  | 99 => 0x3E074B92#32
  | 100 => 0xBDF70EA8#32
  | 101 => 0x3E9338B9#32
  | 102 => 0x3E29DB10#32
  | 103 => 0x3FC2C05C#32
  | 104 => 0x3FC98B0A#32
  | 105 => 0x3E645C7D#32
  | 106 => 0xBF345D22#32
  | 107 => 0x3F6461A2#32
  | 108 => 0xBFDB1EB4#32
  | 109 => 0x3F7A5737#32
  | 110 => 0x3F094A3E#32
  | 111 => 0x3FB289F0#32
  | 112 => 0x3FBD5C9F#32
  | 113 => 0x3FC18331#32
  | 114 => 0x3F09F1CF#32
  | 115 => 0x3F9F6F4B#32
  | 116 => 0x40197930#32
  | 117 => 0xBF024834#32
  | 118 => 0x3ECBDD5C#32
  | 119 => 0x3F96E3DA#32
  | 120 => 0x3EDB4121#32
  | 121 => 0xBF872254#32
  | 122 => 0x3F8C733C#32
  | 123 => 0x3FA15694#32
  | 124 => 0xBF037D0E#32
  | 125 => 0x3E34918C#32
  | 126 => 0x3F3258F0#32
  | 127 => 0xBF144789#32
  | _ => 0#32

noncomputable abbrev lit0t0_936 (i : Nat) : BitVec 32 := match i % 128 with
  | 0 => 0xBFA73BBA#32
  | 1 => 0xBE473A06#32
  | 2 => 0x401DF863#32
  | 3 => 0x3CA7A423#32
  | 4 => 0x3E254195#32
  | 5 => 0x3F7F6F8A#32
  | 6 => 0xBDF95069#32
  | 7 => 0x3E1A2FCE#32
  | 8 => 0x3F399F8A#32
  | 9 => 0x3FC01F4C#32
  | 10 => 0xBEE4B65D#32
  | 11 => 0xBF05D0B1#32
  | 12 => 0x3F70DC4F#32
  | 13 => 0x3F9823BB#32
  | 14 => 0xBF8A7DC9#32
  | 15 => 0x3EBF96EA#32
  | 16 => 0x3D51C74A#32
  | 17 => 0x401AFC1B#32
  | 18 => 0x3F1BBDEC#32
  | 19 => 0x3F93F54C#32
  | 20 => 0x404A4E1E#32
  | 21 => 0x3EE88247#32
  | 22 => 0xBF872068#32
  | 23 => 0x403F9108#32
  | 24 => 0x402FDE01#32
  | 25 => 0x402CB767#32
  | 26 => 0x3F14442D#32
  | 27 => 0xBEE25276#32
  | 28 => 0x3FAEF396#32
  | 29 => 0x3F4568A0#32
  | 30 => 0xBE6E58F5#32
  | 31 => 0x3E825430#32
  | 32 => 0x3FADA4EB#32
  | 33 => 0xBE83B72E#32
  | 34 => 0x3D7E7844#32
  | 35 => 0x403C32EB#32
  | 36 => 0x3F851352#32
  | 37 => 0x3E92811D#32
  | 38 => 0xBE73C9A8#32
  | 39 => 0xBC364E61#32
  | 40 => 0x3E81F0BC#32
  | 41 => 0x3FCA1640#32
  | 42 => 0x40060E77#32
  | 43 => 0x3F87A4E1#32
  | 44 => 0xBDE59611#32
  | 45 => 0x3F855BA3#32
  | 46 => 0x402A387E#32
  | 47 => 0xBF8E5DD2#32
  | 48 => 0xBE271E6C#32
  | 49 => 0x402EF09B#32
  | 50 => 0x3F8DE4F6#32
  | 51 => 0x3FA8B72C#32
  | 52 => 0x3F9A2F90#32
  | 53 => 0xBE919D94#32
  | 54 => 0x3E8F69FC#32
  | 55 => 0x400D22C1#32
  | 56 => 0xBE7620EC#32
  | 57 => 0x40012AC4#32
  | 58 => 0x3FD7C8E2#32
  | 59 => 0x3F5F8199#32
  | 60 => 0x401099CC#32
  | 61 => 0x3F86A037#32
  | 62 => 0x3ED2860B#32
  | 63 => 0x3E42D6C5#32
  | 64 => 0xBF5C076C#32
  | 65 => 0x3D8B88B0#32
  | 66 => 0x3F21C9CD#32
  | 67 => 0x3F8AB82C#32
  | 68 => 0xBE2FA8D1#32
  | 69 => 0x3F46F1ED#32
  | 70 => 0x4000A912#32
  | 71 => 0x3F392C42#32
  | 72 => 0x3FA8519A#32
  | 73 => 0x3FB55899#32
  | 74 => 0xBEB4B44E#32
  | 75 => 0x4039978E#32
  | 76 => 0xBEA97E67#32
  | 77 => 0xBFB110E3#32
  | 78 => 0x3FBA66AE#32
  | 79 => 0x3F9293AA#32
  | 80 => 0xBE81E109#32
  | 81 => 0x3FF0EEE9#32
  | 82 => 0x3FBBAF2A#32
  | 83 => 0x4014265C#32
  | 84 => 0x3F879C93#32
  | 85 => 0xBF4528DC#32
  | 86 => 0xBF837B68#32
  | 87 => 0x3CC375BA#32
  | 88 => 0x3E7F6BDB#32
  | 89 => 0x3F98B3AF#32
  | 90 => 0x402472B2#32
  | 91 => 0x3F3F419D#32
  | 92 => 0x3FD493A9#32
  | 93 => 0x3E985435#32
  | 94 => 0x3E301A65#32
  | 95 => 0x407BDE81#32
  | 96 => 0x3FB21E53#32
  | 97 => 0x3EDD5BBF#32
  | 98 => 0xBF04E284#32
  | 99 => 0x3F87D4D5#32
  | 100 => 0xBEA2451D#32
  | 101 => 0xBC088CED#32
  | 102 => 0xBE4D941D#32
  | 103 => 0x3F2992CC#32
  | 104 => 0x3EA18FF1#32
  | 105 => 0x3FB1D679#32
  | 106 => 0x3EDFEADC#32
  | 107 => 0xBF1A2DEB#32
  | 108 => 0xBD268596#32
  | 109 => 0x3FCE863C#32
  | 110 => 0x3F30010A#32
  | 111 => 0xBBAEE054#32
  | 112 => 0xBF94E36B#32
  | 113 => 0xBFCEAD7A#32
  | 114 => 0x3E268025#32
  | 115 => 0x3FFAAF7B#32
  | 116 => 0x3F588946#32
  | 117 => 0x3F2929F1#32
  | 118 => 0x3EDB2484#32
  | 119 => 0xBF8128E8#32
  | 120 => 0x405BFE86#32
  | 121 => 0xBF302A25#32
  | 122 => 0x4053D62E#32
  | 123 => 0xBED99F95#32
  | 124 => 0xBF6867E2#32
  | 125 => 0xBE968EB0#32
  | 126 => 0xBF0636B3#32
  | 127 => 0x3F5AEB7E#32
  | _ => 0#32

noncomputable abbrev lit0t0_937 (i : Nat) : BitVec 32 := match i % 128 with
  | 0 => 0x3ECEA71D#32
  | 1 => 0x401E9FEA#32
  | 2 => 0x3FE00FEB#32
  | 3 => 0x3F6DDF7C#32
  | 4 => 0x3FE7180C#32
  | 5 => 0x4022A610#32
  | 6 => 0xBE0AD562#32
  | 7 => 0x3F4FD921#32
  | 8 => 0xBD01F09E#32
  | 9 => 0x3F026CC3#32
  | 10 => 0xBF4A9124#32
  | 11 => 0x3F03B684#32
  | 12 => 0xBE5EBFF8#32
  | 13 => 0xBD362F58#32
  | 14 => 0xBB005BCD#32
  | 15 => 0x3F87B9E9#32
  | 16 => 0xBF64FBA8#32
  | 17 => 0xBFA508D1#32
  | 18 => 0x3D5F19B2#32
  | 19 => 0x400C6468#32
  | 20 => 0x3FEA1057#32
  | 21 => 0x3FE1262A#32
  | 22 => 0xBD073C62#32
  | 23 => 0xBEACFCA3#32
  | 24 => 0xBCCD311B#32
  | 25 => 0xBD14645B#32
  | 26 => 0x3EA461D1#32
  | 27 => 0xBF4DF3B7#32
  | 28 => 0x3F0858D5#32
  | 29 => 0x3F05BD9D#32
  | 30 => 0x3F899D11#32
  | 31 => 0x3FC6B1F2#32
  | 32 => 0x3FC2B9F9#32
  | 33 => 0xBF697E46#32
  | 34 => 0x3EB70814#32
  | 35 => 0x3F9F2174#32
  | 36 => 0xBF5317E0#32
  | 37 => 0xBEBF9C7E#32
  | 38 => 0xBED1DE72#32
  | 39 => 0x4008B968#32
  | 40 => 0x3FBFDE87#32
  | 41 => 0x3F955045#32
  | 42 => 0x3E8E957D#32
  | 43 => 0xBF787460#32
  | 44 => 0x3D45A4A0#32
  | 45 => 0xBF55F1A4#32
  | 46 => 0x3EE82EA8#32
  | 47 => 0xBA8DCC5C#32
  | 48 => 0x3EF7F064#32
  | 49 => 0x3F00B9A6#32
  | 50 => 0xBED7A324#32
  | 51 => 0x3E7A390D#32
  | 52 => 0xBF2A190E#32
  | 53 => 0x3F419457#32
  | 54 => 0x3E876A4D#32
  | 55 => 0x3E6243F6#32
  | 56 => 0x3F2DC94E#32
  | 57 => 0xBF4FDD16#32
  | 58 => 0x40261F57#32
  | 59 => 0x3EC822A0#32
  | 60 => 0xBFAE7819#32
  | 61 => 0x3FDF9D70#32
  | 62 => 0x40039AC4#32
  | 63 => 0x3E83DC46#32
  | 64 => 0xBE59AD81#32
  | 65 => 0x3F4A5474#32
  | 66 => 0xBDDC3FBA#32
  | 67 => 0xBF88B312#32
  | 68 => 0xBDD4D97F#32
  | 69 => 0x3F90880A#32
  | 70 => 0x3F53A470#32
  | 71 => 0xBF2D9C7A#32
  | 72 => 0xBEAE2066#32
  | 73 => 0x3FE2AA80#32
  | 74 => 0x3EFD19C2#32
  | 75 => 0xBEF3838C#32
  | 76 => 0x3F8FBD78#32
  | 77 => 0xBEFCB42E#32
  | 78 => 0xBE89F5A9#32
  | 79 => 0x3F62A928#32
  | 80 => 0x407A6307#32
  | 81 => 0x3FC14E06#32
  | 82 => 0xBF70C45A#32
  | 83 => 0x3E9FCC16#32
  | 84 => 0x3F592E2F#32
  | 85 => 0x3F12E75B#32
  | 86 => 0x3DA48FC0#32
  | 87 => 0xBE6A46D0#32
  | 88 => 0xBDF87701#32
  | 89 => 0x3F1565BF#32
  | 90 => 0xBF48FE78#32
  | 91 => 0x3EAF84A3#32
  | 92 => 0xBB18E44F#32
  | 93 => 0x3E243BCE#32
  | 94 => 0x3EFEEDCA#32
  | 95 => 0x3F84F7B2#32
  | 96 => 0x3EA47A61#32
  | 97 => 0x3F66A109#32
  | 98 => 0xBFA6178B#32
  | 99 => 0x3F1879A8#32
  | 100 => 0x40565608#32
  | 101 => 0x3F0F681A#32
  | 102 => 0x3F88460E#32
  | 103 => 0x3DFB76B8#32
  | 104 => 0xBDD384B2#32
  | 105 => 0x3F98D8AD#32
  | 106 => 0x3F7FB007#32
  | 107 => 0xBE0FA767#32
  | 108 => 0xBD98FA06#32
  | 109 => 0x3F247A00#32
  | 110 => 0x3E016D8A#32
  | 111 => 0x3F6E2630#32
  | 112 => 0x40398D0F#32
  | 113 => 0x3F9AE866#32
  | 114 => 0x3FBA63FE#32
  | 115 => 0x3F299575#32
  | 116 => 0x3E3AB797#32
  | 117 => 0xBD5991B3#32
  | 118 => 0x3FF5DADC#32
  | 119 => 0x3FFF2D0C#32
  | 120 => 0x3E8FEDE4#32
  | 121 => 0x3F76FEFE#32
  | 122 => 0xBF046551#32
  | 123 => 0x3FED8C74#32
  | 124 => 0x4016CF74#32
  | 125 => 0x3ED0025C#32
  | 126 => 0x3FF76AB6#32
  | 127 => 0x4010FF1E#32
  | _ => 0#32

noncomputable abbrev lit0t0_938 (i : Nat) : BitVec 32 := match i % 128 with
  | 0 => 0x3FC70BEF#32
  | 1 => 0x3E3F10E9#32
  | 2 => 0x4003721E#32
  | 3 => 0xBF8224E0#32
  | 4 => 0x3F942103#32
  | 5 => 0xBF05B6AE#32
  | 6 => 0x3DA1A4CA#32
  | 7 => 0x3F925497#32
  | 8 => 0x3F63A723#32
  | 9 => 0xBF240075#32
  | 10 => 0x3ECF8848#32
  | 11 => 0xBED484E2#32
  | 12 => 0x404C673B#32
  | 13 => 0x4036B23C#32
  | 14 => 0xBF3F92C0#32
  | 15 => 0x3FF8FB2E#32
  | 16 => 0xBFA94CF9#32
  | 17 => 0x3FA85A34#32
  | 18 => 0xBF7FA012#32
  | 19 => 0x3FC11E6E#32
  | 20 => 0xBF03D609#32
  | 21 => 0x400837A5#32
  | 22 => 0x3E0C064A#32
  | 23 => 0x40219C4E#32
  | 24 => 0xBF37F11C#32
  | 25 => 0x3F9B9182#32
  | 26 => 0x3F4F046F#32
  | 27 => 0xBF874D27#32
  | 28 => 0x3DA7438E#32
  | 29 => 0x3FE67634#32
  | 30 => 0x3F666E8C#32
  | 31 => 0xBF78B418#32
  | 32 => 0x3F41CCE1#32
  | 33 => 0xBF6285B8#32
  | 34 => 0x3F739056#32
  | 35 => 0x3FCA2F30#32
  | 36 => 0x4004A24D#32
  | 37 => 0x406A9AF2#32
  | 38 => 0xBF8179B6#32
  | 39 => 0x3E049B96#32
  | 40 => 0x3DBB66D4#32
  | 41 => 0x40107C1C#32
  | 42 => 0xBF466CF8#32
  | 43 => 0xBDEEEE04#32
  | 44 => 0x3F8F0DD1#32
  | 45 => 0x40089489#32
  | 46 => 0x3EB84B62#32
  | 47 => 0x3FEE1270#32
  | 48 => 0xBEB9DD1F#32
  | 49 => 0x3FE62B95#32
  | 50 => 0x3FD5F43E#32
  | 51 => 0xBF3E4770#32
  | 52 => 0x3F7A74FE#32
  | 53 => 0xBF391E26#32
  | 54 => 0x3DF31CCD#32
  | 55 => 0x406355BA#32
  | 56 => 0x3F5AEF52#32
  | 57 => 0x3F92FB17#32
  | 58 => 0x40007BC3#32
  | 59 => 0x3F4BBA83#32
  | 60 => 0x400E692C#32
  | 61 => 0xBF001056#32
  | 62 => 0xBF44D970#32
  | 63 => 0x3FF26274#32
  | 64 => 0x408C0003#32
  | 65 => 0xBF07DF72#32
  | 66 => 0x3F4433BF#32
  | 67 => 0x3F04CC5F#32
  | 68 => 0x3E256F95#32
  | 69 => 0x3F9E5312#32
  | 70 => 0x3FADC683#32
  | 71 => 0x3D960D42#32
  | 72 => 0x3FD81693#32
  | 73 => 0x40869EE3#32
  | 74 => 0xBF34E9A4#32
  | 75 => 0xBF9F3310#32
  | 76 => 0xBFB988F5#32
  | 77 => 0x3EAED02C#32
  | 78 => 0x3F8349AE#32
  | 79 => 0x3F0B2D77#32
  | 80 => 0x3C212CC9#32
  | 81 => 0xBD2D17A4#32
  | 82 => 0x3EABF591#32
  | 83 => 0x3F282C61#32
  | 84 => 0xBF945500#32
  | 85 => 0x401C3744#32
  | 86 => 0xBF6E826D#32
  | 87 => 0x401B771F#32
  | 88 => 0x3F70D360#32
  | 89 => 0x3F5F540C#32
  | 90 => 0xBE35F095#32
  | 91 => 0xBE2A3DC1#32
  | 92 => 0x3F3EB54D#32
  | 93 => 0x3FEC1C6F#32
  | 94 => 0xBF84635A#32
  | 95 => 0x3F48E28F#32
  | 96 => 0x400B3462#32
  | 97 => 0x3F6E9585#32
  | 98 => 0x3FF947B3#32
  | 99 => 0x3EB25AC1#32
  | 100 => 0x3FDE6C94#32
  | 101 => 0xBEF9461A#32
  | 102 => 0x3FF67986#32
  | 103 => 0x3FA9AED7#32
  | 104 => 0x3F46EB34#32
  | 105 => 0xBEFDAA83#32
  | 106 => 0x3F6AFAA0#32
  | 107 => 0x3D19BF28#32
  | 108 => 0xBF382660#32
  | 109 => 0x3F932090#32
  | 110 => 0xBF37FD71#32
  | 111 => 0xBF147403#32
  | 112 => 0xBE93A258#32
  | 113 => 0xBF05EB4B#32
  | 114 => 0xBE97AC83#32
  | 115 => 0x3DE6ABC7#32
  | 116 => 0xBF24BBCB#32
  | 117 => 0x3FC4C210#32
  | 118 => 0x3DC2D00B#32
  | 119 => 0x3D43855B#32
  | 120 => 0x3D3C9412#32
  | 121 => 0x3F3ADD7B#32
  | 122 => 0x3F64873D#32
  | 123 => 0x40139CCB#32
  | 124 => 0x3FB47E5A#32
  | 125 => 0x4018379E#32
  | 126 => 0xBF72902A#32
  | 127 => 0x401320B1#32
  | _ => 0#32

noncomputable abbrev lit0t0_939 (i : Nat) : BitVec 32 := match i % 128 with
  | 0 => 0x3FA34FF4#32
  | 1 => 0x3FBE3DB0#32
  | 2 => 0x3FC05A3A#32
  | 3 => 0x3F6CE5FE#32
  | 4 => 0x3E0E8674#32
  | 5 => 0x3F5F4AA8#32
  | 6 => 0x3FD342B3#32
  | 7 => 0x3F7C8F30#32
  | 8 => 0x3EC299B2#32
  | 9 => 0xBF146454#32
  | 10 => 0x3E1650FE#32
  | 11 => 0x3F09F3EC#32
  | 12 => 0xBEDD4CF3#32
  | 13 => 0xBE4AEF75#32
  | 14 => 0x3FBDA5BC#32
  | 15 => 0xBEAC03F2#32
  | 16 => 0xBE6B34B5#32
  | 17 => 0x402C2B93#32
  | 18 => 0x404032EA#32
  | 19 => 0xBF80DB5A#32
  | 20 => 0xBDA49BC5#32
  | 21 => 0x3FB0605C#32
  | 22 => 0x3F781AB0#32
  | 23 => 0x3F4F2B28#32
  | 24 => 0xBFBB758C#32
  | 25 => 0xBF9F94D2#32
  | 26 => 0xBD98FBC4#32
  | 27 => 0xBF9DD648#32
  | 28 => 0x3EB93836#32
  | 29 => 0x3FA1B550#32
  | 30 => 0xBF265380#32
  | 31 => 0x4030542B#32
  | 32 => 0xBE8E2A49#32
  | 33 => 0x3FEBF647#32
  | 34 => 0x3FDD1556#32
  | 35 => 0x3FCB224E#32
  | 36 => 0xBFAE49F3#32
  | 37 => 0x3FCE5800#32
  | 38 => 0x401C87A8#32
  | 39 => 0x3ED2772E#32
  | 40 => 0xBD8F7764#32
  | 41 => 0xBEE53A1A#32
  | 42 => 0x3F9D8EAC#32
  | 43 => 0x3E9E0E24#32
  | 44 => 0xBD60AC8F#32
  | 45 => 0xBFB84488#32
  | 46 => 0x3F8F6909#32
  | 47 => 0x400C6CDE#32
  | 48 => 0x408016B0#32
  | 49 => 0x4024050D#32
  | 50 => 0xBEF8618C#32
  | 51 => 0x3FBAE065#32
  | 52 => 0x3F1E8200#32
  | 53 => 0xBE2A1253#32
  | 54 => 0xBF149B37#32
  | 55 => 0x3FDDE5B5#32
  | 56 => 0xBF8C6ED0#32
  | 57 => 0x3E4ACD4C#32
  | 58 => 0x3EBB3D6B#32
  | 59 => 0x3D0BA5BD#32
  | 60 => 0xBF8CC865#32
  | 61 => 0xBF90C7CE#32
  | 62 => 0x3F4DE4CB#32
  | 63 => 0x3DD830BB#32
  | 64 => 0xBF30C22B#32
  | 65 => 0x3FF2299A#32
  | 66 => 0x3FBC48B0#32
  | 67 => 0x4085D7C0#32
  | 68 => 0x3FB3F19F#32
  | 69 => 0x3FAFD3D9#32
  | 70 => 0x40A1BDC9#32
  | 71 => 0x3D0926F4#32
  | 72 => 0x3E1D3025#32
  | 73 => 0x3EDDE4EA#32
  | 74 => 0xBE74293A#32
  | 75 => 0x3DCA147B#32
  | 76 => 0xBEC7E9DF#32
  | 77 => 0xBF00C153#32
  | 78 => 0x3F2B3221#32
  | 79 => 0xBEA08C26#32
  | 80 => 0xBE78BCB5#32
  | 81 => 0xBEE34498#32
  | 82 => 0x404E689F#32
  | 83 => 0x3FF7237E#32
  | 84 => 0x3FE48B27#32
  | 85 => 0x3F18EAEA#32
  | 86 => 0x3EABF4A3#32
  | 87 => 0x3F4E13C2#32
  | 88 => 0x402CC088#32
  | 89 => 0x3F6E525C#32
  | 90 => 0x3EC9A5D6#32
  | 91 => 0x3EB4329F#32
  | 92 => 0x400B69B2#32
  | 93 => 0x3F9D09F7#32
  | 94 => 0xBF15E9BA#32
  | 95 => 0x3F5E891A#32
  | 96 => 0xBDCA39EA#32
  | 97 => 0xBE74C8F0#32
  | 98 => 0x3FD81FE8#32
  | 99 => 0x3E2C5704#32
  | 100 => 0x3F508F7D#32
  | 101 => 0x3F80A1DD#32
  | 102 => 0x40522F73#32
  | 103 => 0x3E4501D6#32
  | 104 => 0xBF4D7807#32
  | 105 => 0x3F9C1B33#32
  | 106 => 0x3F495939#32
  | 107 => 0xBFA4A939#32
  | 108 => 0x3F31478C#32
  | 109 => 0x3F7F9BAC#32
  | 110 => 0x3FC3B1A0#32
  | 111 => 0xBF23B877#32
  | 112 => 0x3FC06177#32
  | 113 => 0xBF6B91C4#32
  | 114 => 0x3E0FDD2A#32
  | 115 => 0x3F213067#32
  | 116 => 0x3F25C9DD#32
  | 117 => 0xBD9E24A6#32
  | 118 => 0x4032B281#32
  | 119 => 0x3DB91774#32
  | 120 => 0xC0059DFC#32
  | 121 => 0x3F706EDC#32
  | 122 => 0x3F3ACC80#32
  | 123 => 0x3F2EC2DC#32
  | 124 => 0x3FAD24EE#32
  | 125 => 0xBF073EF2#32
  | 126 => 0x40908FF0#32
  | 127 => 0x3FB753D2#32
  | _ => 0#32

noncomputable abbrev lit0t0_940 (i : Nat) : BitVec 32 := match i % 128 with
  | 0 => 0x3E05272B#32
  | 1 => 0x3E965F97#32
  | 2 => 0xBF8A58DA#32
  | 3 => 0x3F957231#32
  | 4 => 0x3E93B9BD#32
  | 5 => 0x4020DC0A#32
  | 6 => 0x3F087475#32
  | 7 => 0x3FC921F9#32
  | 8 => 0x3CE52723#32
  | 9 => 0x3E1DEF4B#32
  | 10 => 0xBF0A626B#32
  | 11 => 0x405B9056#32
  | 12 => 0x3F97A1C4#32
  | 13 => 0x3FE1B9FC#32
  | 14 => 0x3E8D6B93#32
  | 15 => 0x3EE6647E#32
  | 16 => 0x3FDC5AC9#32
  | 17 => 0xBE1C7052#32
  | 18 => 0xBEB205C8#32
  | 19 => 0x3FA79106#32
  | 20 => 0x3FA44231#32
  | 21 => 0x3E1F5EF0#32
  | 22 => 0xBDAAEBC2#32
  | 23 => 0xBF045CF1#32
  | 24 => 0xBDFC7C02#32
  | 25 => 0x3EE994FC#32
  | 26 => 0x3FE131AC#32
  | 27 => 0x401E18C2#32
  | 28 => 0x4039D4CA#32
  | 29 => 0x3F285D74#32
  | 30 => 0xBF6C68FC#32
  | 31 => 0x3F8F8894#32
  | 32 => 0xBF96B75E#32
  | 33 => 0x3E119B1E#32
  | 34 => 0x3E509B60#32
  | 35 => 0x3FA18198#32
  | 36 => 0xBEE40372#32
  | 37 => 0xBD1C6513#32
  | 38 => 0xBE6B9A19#32
  | 39 => 0xBEDF2D27#32
  | 40 => 0xBE4C7EBB#32
  | 41 => 0x4005F98E#32
  | 42 => 0xBEFF3434#32
  | 43 => 0x3FC7916A#32
  | 44 => 0x3FAE4951#32
  | 45 => 0x3FADC2F5#32
  | 46 => 0xBF63B72E#32
  | 47 => 0xBECFA585#32
  | 48 => 0xBF71A471#32
  | 49 => 0xBF95A512#32
  | 50 => 0x3F90E2CA#32
  | 51 => 0x3F1DF28E#32
  | 52 => 0x400151E2#32
  | 53 => 0x3FDABFB6#32
  | 54 => 0x3B7AD0B6#32
  | 55 => 0xBE0393FF#32
  | 56 => 0x3CA5BA24#32
  | 57 => 0x40849604#32
  | 58 => 0x3FCB6879#32
  | 59 => 0x40159F5D#32
  | 60 => 0xBDD6D863#32
  | 61 => 0x3FE03C32#32
  | 62 => 0xBF4E0F80#32
  | 63 => 0x4067C0EC#32
  | 64 => 0xBFCC6542#32
  | 65 => 0x3FBB8619#32
  | 66 => 0x4030919A#32
  | 67 => 0x3F5CAC9D#32
  | 68 => 0x400F0F3D#32
  | 69 => 0x3F8E7F02#32
  | 70 => 0x3FF0E333#32
  | 71 => 0x3F8FE57B#32
  | 72 => 0x3DE10B30#32
  | 73 => 0xBFC31944#32
  | 74 => 0xBED06D16#32
  | 75 => 0x3F2BA2BA#32
  | 76 => 0x3FB89E2D#32
  | 77 => 0x3EC661B9#32
  | 78 => 0x3FE20E38#32
  | 79 => 0xBF3F0D1A#32
  | 80 => 0x3F41CCFD#32
  | 81 => 0xBF8D4BCE#32
  | 82 => 0xBF451372#32
  | 83 => 0xBF158650#32
  | 84 => 0x3E3B74D4#32
  | 85 => 0x3F1275C4#32
  | 86 => 0xBEA50630#32
  | 87 => 0xBEBBB909#32
  | 88 => 0x3F8FF43E#32
  | 89 => 0xBF39F4F2#32
  | 90 => 0x3ED547B0#32
  | 91 => 0xBF81892E#32
  | 92 => 0xBE2AD16F#32
  | 93 => 0x3FD14557#32
  | 94 => 0xBF053A0D#32
  | 95 => 0x3FE31154#32
  | 96 => 0x401D1FE6#32
  | 97 => 0xBE5CBEBF#32
  | 98 => 0x3EAB03AA#32
  | 99 => 0xBF7AE6C4#32
  | 100 => 0xBF8FF624#32
  | 101 => 0x3EFE6F1C#32
  | 102 => 0xBF7722F8#32
  | 103 => 0xBE9EEBCE#32
  | 104 => 0x3DFDB1A7#32
  | 105 => 0x3E8080A3#32
  | 106 => 0xBE743C3A#32
  | 107 => 0x3FE92136#32
  | 108 => 0xBE19E13E#32
  | 109 => 0x3F6D2634#32
  | 110 => 0x3DAA54AB#32
  | 111 => 0x3F8671CA#32
  | 112 => 0x3FF8F8BA#32
  | 113 => 0xBDD4BE00#32
  | 114 => 0x3DF88E5D#32
  | 115 => 0x3E6E72FA#32
  | 116 => 0x3FDDBCC0#32
  | 117 => 0xBD1E510E#32
  | 118 => 0xBE8F8392#32
  | 119 => 0xBF08342F#32
  | 120 => 0x3F79277D#32
  | 121 => 0x3FEDF5A2#32
  | 122 => 0x3FAA51D6#32
  | 123 => 0x40A7314A#32
  | 124 => 0x3FBBE172#32
  | 125 => 0x3FF569E2#32
  | 126 => 0x3F3E7972#32
  | 127 => 0x3EAE3671#32
  | _ => 0#32

noncomputable abbrev lit0t0_941 (i : Nat) : BitVec 32 := match i % 128 with
  | 0 => 0x3E8E090D#32
  | 1 => 0xBF2CD13B#32
  | 2 => 0xBED76C08#32
  | 3 => 0xBE3E8136#32
  | 4 => 0x3EC07D5E#32
  | 5 => 0xBF8B4781#32
  | 6 => 0x3F30FDA6#32
  | 7 => 0x400564B6#32
  | 8 => 0xBF1D5B74#32
  | 9 => 0xBF54E503#32
  | 10 => 0x3F8B63F8#32
  | 11 => 0x3FDD286B#32
  | 12 => 0x3F686499#32
  | 13 => 0x4034CFB3#32
  | 14 => 0xBF1AC8FD#32
  | 15 => 0xBD928DC6#32
  | 16 => 0x3E0AE2E3#32
  | 17 => 0x3EA27A15#32
  | 18 => 0x3FC4B54A#32
  | 19 => 0xBF3B6003#32
  | 20 => 0xBEDF2851#32
  | 21 => 0x3F3A7AF5#32
  | 22 => 0x3DA26EEB#32
  | 23 => 0x403F05D0#32
  | 24 => 0x403601C5#32
  | 25 => 0x40A0144F#32
  | 26 => 0x3F1849D9#32
  | 27 => 0x3F2FD30B#32
  | 28 => 0x3EA4F8F0#32
  | 29 => 0xBF496AD2#32
  | 30 => 0xBE1EB31A#32
  | 31 => 0x3FA0C5A1#32
  | 32 => 0xBEF3F372#32
  | 33 => 0x3F153EE0#32
  | 34 => 0x3F2BFA43#32
  | 35 => 0x3F04172D#32
  | 36 => 0x406C9F9C#32
  | 37 => 0x3E5EC57A#32
  | 38 => 0x3EA29C44#32
  | 39 => 0xBEAAB38A#32
  | 40 => 0x3F5A850F#32
  | 41 => 0xBEC40E7F#32
  | 42 => 0xBF5C119A#32
  | 43 => 0xBF16D2A8#32
  | 44 => 0x3FBE15C3#32
  | 45 => 0x3EA18EBF#32
  | 46 => 0x3F5152DF#32
  | 47 => 0xBD343EB0#32
  | 48 => 0xBF16E2BE#32
  | 49 => 0xBAAD2EB3#32
  | 50 => 0x3FEF544E#32
  | 51 => 0x3DF44511#32
  | 52 => 0x40231E53#32
  | 53 => 0x3F4DA8CE#32
  | 54 => 0x3F074835#32
  | 55 => 0x40350CE6#32
  | 56 => 0x3F7883F1#32
  | 57 => 0x3EB4FE2D#32
  | 58 => 0x3F688C42#32
  | 59 => 0x3D00A278#32
  | 60 => 0xBF84DBE1#32
  | 61 => 0x3E8CE903#32
  | 62 => 0xBF3AA208#32
  | 63 => 0xBF73753E#32
  | 64 => 0x3EFB2338#32
  | 65 => 0x3BCAD3DE#32
  | 66 => 0xBF985027#32
  | 67 => 0xBF1FBEC6#32
  | 68 => 0x3F790271#32
  | 69 => 0x3F1C2386#32
  | 70 => 0x3E1BB8A0#32
  | 71 => 0xBF859486#32
  | 72 => 0xBE0F7504#32
  | 73 => 0x3F847611#32
  | 74 => 0x3FD01D1A#32
  | 75 => 0x3F6F09BD#32
  | 76 => 0x3EAC7BA0#32
  | 77 => 0xBEF4B1B2#32
  | 78 => 0x403E0211#32
  | 79 => 0x3F9DAB60#32
  | 80 => 0xBF803FDD#32
  | 81 => 0x3F631B79#32
  | 82 => 0x40251A77#32
  | 83 => 0x3E9073B9#32
  | 84 => 0xBF5DA490#32
  | 85 => 0x4042A45D#32
  | 86 => 0xBE201B41#32
  | 87 => 0x3E87F481#32
  | 88 => 0x3C0706CC#32
  | 89 => 0x3FB1DC8C#32
  | 90 => 0x3EB12D4E#32
  | 91 => 0xBEE403C6#32
  | 92 => 0x4035EC0D#32
  | 93 => 0x3F68113A#32
  | 94 => 0x40559C5C#32
  | 95 => 0xBF93E1DE#32
  | 96 => 0x3E140728#32
  | 97 => 0x40C2F8B2#32
  | 98 => 0xBF62F676#32
  | 99 => 0xBE657C3F#32
  | 100 => 0xBE442F83#32
  | 101 => 0x40DA2388#32
  | 102 => 0x4016C81C#32
  | 103 => 0x3FD5299B#32
  | 104 => 0x3BD931DD#32
  | 105 => 0x3ED03013#32
  | 106 => 0x3F89E510#32
  | 107 => 0x3D93910B#32
  | 108 => 0x3FBBAD75#32
  | 109 => 0x3E080A3F#32
  | 110 => 0x401BDD73#32
  | 111 => 0xBF9E7450#32
  | 112 => 0xBE71E627#32
  | 113 => 0x3EF29524#32
  | 114 => 0xBF4441D6#32
  | 115 => 0x3F406B20#32
  | 116 => 0xBF04F670#32
  | 117 => 0xBF18B4EF#32
  | 118 => 0x3FBF72DE#32
  | 119 => 0x3F4A269F#32
  | 120 => 0x3F0D8DEF#32
  | 121 => 0xBE8815F4#32
  | 122 => 0x3DF1F5EE#32
  | 123 => 0xBEC09A15#32
  | 124 => 0x4001CAD8#32
  | 125 => 0x3F288652#32
  | 126 => 0x3DBF68AA#32
  | 127 => 0x3E309646#32
  | _ => 0#32

noncomputable abbrev lit0t0_942 (i : Nat) : BitVec 32 := match i % 128 with
  | 0 => 0x3FBFD985#32
  | 1 => 0xBE8545E2#32
  | 2 => 0x3FCEA3D4#32
  | 3 => 0xBD336102#32
  | 4 => 0x3FF698E8#32
  | 5 => 0xBF6152B8#32
  | 6 => 0xBF30FEE0#32
  | 7 => 0xBECB2238#32
  | 8 => 0x3F77965C#32
  | 9 => 0xBFA9ED76#32
  | 10 => 0xBE7E4BEE#32
  | 11 => 0xBF9CC01D#32
  | 12 => 0x3E4BC867#32
  | 13 => 0x401ED96B#32
  | 14 => 0xBECB914A#32
  | 15 => 0x3E8163D4#32
  | 16 => 0xBE284292#32
  | 17 => 0x3FBFD707#32
  | 18 => 0x3FF09BE0#32
  | 19 => 0x3EB856F1#32
  | 20 => 0xBE1C539E#32
  | 21 => 0x403EAAB2#32
  | 22 => 0x400E0336#32
  | 23 => 0xBED3140C#32
  | 24 => 0x3EC51934#32
  | 25 => 0x3FB65814#32
  | 26 => 0x3F1485C0#32
  | 27 => 0x40B66B68#32
  | 28 => 0x3F29BC37#32
  | 29 => 0x3E5F4E17#32
  | 30 => 0xBE6D2A47#32
  | 31 => 0x3FDC3F2E#32
  | 32 => 0x3F7C3306#32
  | 33 => 0xBD41F40A#32
  | 34 => 0x3F943649#32
  | 35 => 0xBEB2F713#32
  | 36 => 0x3F01F3E1#32
  | 37 => 0x3F754B18#32
  | 38 => 0x3F11ED65#32
  | 39 => 0x3FC8A91C#32
  | 40 => 0x3EB14575#32
  | 41 => 0x3FB2CEB9#32
  | 42 => 0xBE3D680C#32
  | 43 => 0x3F7E4E20#32
  | 44 => 0x3F9FC9E7#32
  | 45 => 0x401D4748#32
  | 46 => 0xBE861EC9#32
  | 47 => 0xBD25961F#32
  | 48 => 0xBDA74753#32
  | 49 => 0x3F01057C#32
  | 50 => 0xBF4B99AC#32
  | 51 => 0x4028A58A#32
  | 52 => 0x3FC86F41#32
  | 53 => 0x3FC69C63#32
  | 54 => 0x3FC1DB34#32
  | 55 => 0xBC1D4F0D#32
  | 56 => 0x3D10C6CC#32
  | 57 => 0x40596986#32
  | 58 => 0x3F804C2D#32
  | 59 => 0xBE05F249#32
  | 60 => 0x40236E77#32
  | 61 => 0x3DAD02D7#32
  | 62 => 0xBEFF436B#32
  | 63 => 0xBE819D6D#32
  | 64 => 0xBF5A3B76#32
  | 65 => 0x4095DF14#32
  | 66 => 0x402AC899#32
  | 67 => 0xBF77075B#32
  | 68 => 0x3FC78AD6#32
  | 69 => 0xBF01FB52#32
  | 70 => 0xBF5C4D01#32
  | 71 => 0x404C43B2#32
  | 72 => 0x3E9AF08C#32
  | 73 => 0x40746749#32
  | 74 => 0x3F29DD6B#32
  | 75 => 0xBF9E85F6#32
  | 76 => 0x3F1981A8#32
  | 77 => 0x3F76DB8F#32
  | 78 => 0xBEE0CF69#32
  | 79 => 0x3FAB7D5B#32
  | 80 => 0x3FF71E6B#32
  | 81 => 0x400DA28D#32
  | 82 => 0x3FAE57A8#32
  | 83 => 0xBEB394F5#32
  | 84 => 0xBF16F918#32
  | 85 => 0xBF0F735B#32
  | 86 => 0x4027C4D2#32
  | 87 => 0xBEAA3904#32
  | 88 => 0x40472662#32
  | 89 => 0x3F615C34#32
  | 90 => 0x400947DA#32
  | 91 => 0x3F8FB2C3#32
  | 92 => 0x3FD28FEC#32
  | 93 => 0x3F8F5554#32
  | 94 => 0xBFA44466#32
  | 95 => 0x3FC97571#32
  | 96 => 0x3FAAB6F5#32
  | 97 => 0xBF911FE2#32
  | 98 => 0x3EE6118E#32
  | 99 => 0xBF0FA02B#32
  | 100 => 0x3E42B15B#32
  | 101 => 0x3F59C1F4#32
  | 102 => 0x3FC8A0AA#32
  | 103 => 0x3E75C278#32
  | 104 => 0x3D0ACDD6#32
  | 105 => 0xBF1199D0#32
  | 106 => 0xBEC90382#32
  | 107 => 0x3FC57446#32
  | 108 => 0x4018AFF7#32
  | 109 => 0xBF88167C#32
  | 110 => 0x3D6E2EDA#32
  | 111 => 0xBFC4C184#32
  | 112 => 0xBF06F172#32
  | 113 => 0x3FB7F2B0#32
  | 114 => 0x3E26A1F5#32
  | 115 => 0x40644433#32
  | 116 => 0x3E8FD954#32
  | 117 => 0x3F9CB6AE#32
  | 118 => 0x3FC3DFD3#32
  | 119 => 0x3FBA7833#32
  | 120 => 0x3EC2F877#32
  | 121 => 0xBF7066D3#32
  | 122 => 0xBEB221B3#32
  | 123 => 0xBD34950D#32
  | 124 => 0xBE0F3DEC#32
  | 125 => 0x3F39A3C1#32
  | 126 => 0xBF1199AF#32
  | 127 => 0x3F16E617#32
  | _ => 0#32

noncomputable abbrev lit0t0_943 (i : Nat) : BitVec 32 := match i % 128 with
  | 0 => 0x3FE212C5#32
  | 1 => 0xBF2B9027#32
  | 2 => 0xBF881D19#32
  | 3 => 0xBE092303#32
  | 4 => 0x3F0818C4#32
  | 5 => 0x4043B331#32
  | 6 => 0xBEE02972#32
  | 7 => 0x3EE08274#32
  | 8 => 0x3E37649A#32
  | 9 => 0xBE1C506D#32
  | 10 => 0x4034731F#32
  | 11 => 0xBF902ED7#32
  | 12 => 0xBF6F5ED4#32
  | 13 => 0xBE9A0EFC#32
  | 14 => 0x3F07637B#32
  | 15 => 0x3FF2CD6C#32
  | 16 => 0x3E4DC802#32
  | 17 => 0x3E8B6412#32
  | 18 => 0xBC891D98#32
  | 19 => 0x3F481364#32
  | 20 => 0x40E63956#32
  | 21 => 0xBF215343#32
  | 22 => 0x3E3089DF#32
  | 23 => 0xBE157507#32
  | 24 => 0x3F17F7ED#32
  | 25 => 0x3F6CB86C#32
  | 26 => 0x3EFBE85D#32
  | 27 => 0x3FD31FCC#32
  | 28 => 0x3EEBC18A#32
  | 29 => 0xBF02818D#32
  | 30 => 0xBF060F6A#32
  | 31 => 0x3F8C048E#32
  | 32 => 0xBF832F73#32
  | 33 => 0x3EA36370#32
  | 34 => 0xBE71D192#32
  | 35 => 0xBE9304C8#32
  | 36 => 0x3F6FD37A#32
  | 37 => 0x3D24911A#32
  | 38 => 0x3FB23B0E#32
  | 39 => 0x3F69DBA2#32
  | 40 => 0x3F7C847C#32
  | 41 => 0x3F94E69C#32
  | 42 => 0xBF6F5578#32
  | 43 => 0x40253280#32
  | 44 => 0x3F5C9250#32
  | 45 => 0x3F5D83C5#32
  | 46 => 0x3EFEAA56#32
  | 47 => 0xBF17F444#32
  | 48 => 0x3F1B8878#32
  | 49 => 0xBF0E329C#32
  | 50 => 0x3DDA3B13#32
  | 51 => 0x3FD192AC#32
  | 52 => 0xBF2CB02E#32
  | 53 => 0x401C672B#32
  | 54 => 0x3ED6E253#32
  | 55 => 0xBF80AB7A#32
  | 56 => 0x3F8341D6#32
  | 57 => 0x3E7BF33C#32
  | 58 => 0xBD9259D0#32
  | 59 => 0x40195056#32
  | 60 => 0x3F92228F#32
  | 61 => 0xBE3F67A8#32
  | 62 => 0x3F0184B7#32
  | 63 => 0x401CDBBD#32
  | 64 => 0x3FFFED52#32
  | 65 => 0xBE96DA2B#32
  | 66 => 0x3E338C5E#32
  | 67 => 0x4016E8FC#32
  | 68 => 0x3F8736F2#32
  | 69 => 0x406FB344#32
  | 70 => 0x401B89C5#32
  | 71 => 0x3EF187D6#32
  | 72 => 0xBD83D604#32
  | 73 => 0x3F38FF10#32
  | 74 => 0xBF693ACD#32
  | 75 => 0x3F70B327#32
  | 76 => 0x3FF6283D#32
  | 77 => 0xBE499A96#32
  | 78 => 0x3D0E5381#32
  | 79 => 0x4026092E#32
  | 80 => 0x404B4875#32
  | 81 => 0x400388A4#32
  | 82 => 0xBE36A534#32
  | 83 => 0xBF2A17B5#32
  | 84 => 0x3F8D5565#32
  | 85 => 0xBF09CEAA#32
  | 86 => 0x3EC01CAB#32
  | 87 => 0xBF76A783#32
  | 88 => 0xBE8BBF5B#32
  | 89 => 0x404EDE5D#32
  | 90 => 0x404C3BF9#32
  | 91 => 0x3F08B76E#32
  | 92 => 0xBF78BD1A#32
  | 93 => 0xBEB4861C#32
  | 94 => 0x3EC74234#32
  | 95 => 0xBF020BFD#32
  | 96 => 0x406C18A4#32
  | 97 => 0x3F131648#32
  | 98 => 0xBC790591#32
  | 99 => 0xBF33633E#32
  | 100 => 0x403E0E3D#32
  | 101 => 0xBD5534C1#32
  | 102 => 0x3FF76BFD#32
  | 103 => 0x40A0B41D#32
  | 104 => 0xBE92F9F0#32
  | 105 => 0x3F39141E#32
  | 106 => 0x3FA47967#32
  | 107 => 0xBEC055F6#32
  | 108 => 0xBF3BA924#32
  | 109 => 0xBEF06FEC#32
  | 110 => 0xBEE05F59#32
  | 111 => 0x3F25F40B#32
  | 112 => 0x3F06EEB2#32
  | 113 => 0xBE5C084E#32
  | 114 => 0x3FC9DC05#32
  | 115 => 0xBDA77BDA#32
  | 116 => 0x3FA5C482#32
  | 117 => 0x3E3515DF#32
  | 118 => 0x3F4DF528#32
  | 119 => 0x3D21227A#32
  | 120 => 0x3F216520#32
  | 121 => 0xBF9410E5#32
  | 122 => 0x4010CA6E#32
  | 123 => 0x3FE8FD5B#32
  | 124 => 0x3EF4348C#32
  | 125 => 0x3F4E1D3E#32
  | 126 => 0x3F84387B#32
  | 127 => 0x3FC19034#32
  | _ => 0#32

noncomputable abbrev lit0t0_944 (i : Nat) : BitVec 32 := match i % 128 with
  | 0 => 0x3FA1370D#32
  | 1 => 0xBF66B131#32
  | 2 => 0x403CAFA7#32
  | 3 => 0x3D937A12#32
  | 4 => 0x3F666E3B#32
  | 5 => 0x3F5D1610#32
  | 6 => 0xBE759E54#32
  | 7 => 0x3F06EA54#32
  | 8 => 0xBEB617BD#32
  | 9 => 0xBF929272#32
  | 10 => 0xBF57666B#32
  | 11 => 0xBE96C7A1#32
  | 12 => 0x3F53A63B#32
  | 13 => 0x4073D91E#32
  | 14 => 0xBF67AA97#32
  | 15 => 0x3C502F6C#32
  | 16 => 0xBE174023#32
  | 17 => 0xBF717E68#32
  | 18 => 0xBE9DDAC8#32
  | 19 => 0x3F8E2962#32
  | 20 => 0x3F379747#32
  | 21 => 0x3FC64DB1#32
  | 22 => 0xBE3E3B0B#32
  | 23 => 0xBEE58098#32
  | 24 => 0x3C879198#32
  | 25 => 0x3F3F827E#32
  | 26 => 0x3FAEA011#32
  | 27 => 0x3F9FF2F6#32
  | 28 => 0xBEAC1D30#32
  | 29 => 0x3F8B1AC0#32
  | 30 => 0xBFD6CBD4#32
  | 31 => 0x3FD038AA#32
  | 32 => 0x4009A4F2#32
  | 33 => 0xBED423FE#32
  | 34 => 0x401C0B98#32
  | 35 => 0x3E101A0F#32
  | 36 => 0x3F1D6EEA#32
  | 37 => 0x3F8638FE#32
  | 38 => 0x3F2F8489#32
  | 39 => 0xBE5840B9#32
  | 40 => 0x3E849E10#32
  | 41 => 0xBF5B1001#32
  | 42 => 0x3EC4792A#32
  | 43 => 0xBF1B702E#32
  | 44 => 0xBE569D00#32
  | 45 => 0xBF8EFCDE#32
  | 46 => 0x3FA77429#32
  | 47 => 0x3F82D337#32
  | 48 => 0xBBC46BFD#32
  | 49 => 0xBD50E3EC#32
  | 50 => 0xBF2476D3#32
  | 51 => 0x3F82D743#32
  | 52 => 0xBE3E35AC#32
  | 53 => 0xBF7EFA79#32
  | 54 => 0xBEB7AF38#32
  | 55 => 0x3FB3DABF#32
  | 56 => 0x4019B3F3#32
  | 57 => 0x3EB022BA#32
  | 58 => 0xBFC65F8A#32
  | 59 => 0x3F168DE8#32
  | 60 => 0xBF163044#32
  | 61 => 0xBFC8A7A6#32
  | 62 => 0xBF0D213B#32
  | 63 => 0x3FB5F4E7#32
  | 64 => 0xBFC0FFEA#32
  | 65 => 0x3F206546#32
  | 66 => 0x3F826545#32
  | 67 => 0x3E36987A#32
  | 68 => 0x3F4EC7B8#32
  | 69 => 0x40705754#32
  | 70 => 0xBFB4549C#32
  | 71 => 0x3F3A6729#32
  | 72 => 0x3E0BE276#32
  | 73 => 0x3F11D315#32
  | 74 => 0x3F323482#32
  | 75 => 0xBEA5E393#32
  | 76 => 0x3FDD009A#32
  | 77 => 0xBF60DAFE#32
  | 78 => 0xBF97270F#32
  | 79 => 0xBEE9C050#32
  | 80 => 0x3FC22719#32
  | 81 => 0xBD95F304#32
  | 82 => 0x40684BB2#32
  | 83 => 0x3FB9C280#32
  | 84 => 0xBF81FB32#32
  | 85 => 0xBF9CC15B#32
  | 86 => 0x3F5A71EF#32
  | 87 => 0x3F61A190#32
  | 88 => 0x3F8D5C24#32
  | 89 => 0xBD9B94F8#32
  | 90 => 0xBF540AFC#32
  | 91 => 0x400B1E2B#32
  | 92 => 0xBE2DE50E#32
  | 93 => 0xBF342474#32
  | 94 => 0x3F7C87BE#32
  | 95 => 0xBED1466E#32
  | 96 => 0x3E1F8DC4#32
  | 97 => 0x4006383A#32
  | 98 => 0x4008C852#32
  | 99 => 0xBFA8ABE7#32
  | 100 => 0xBDC5E2CE#32
  | 101 => 0x3D1D129B#32
  | 102 => 0x3F723ED4#32
  | 103 => 0x403BF95F#32
  | 104 => 0x403688F6#32
  | 105 => 0x3F1B96D6#32
  | 106 => 0x3DD1B539#32
  | 107 => 0xBF45CAAF#32
  | 108 => 0x3E5CC4F5#32
  | 109 => 0xBE13DFF2#32
  | 110 => 0x3EF0A01A#32
  | 111 => 0x4019CC84#32
  | 112 => 0x4034055E#32
  | 113 => 0xBF95BF7E#32
  | 114 => 0x3F6744B4#32
  | 115 => 0xBF0B3704#32
  | 116 => 0x3F72CCE8#32
  | 117 => 0x3F1BFBA0#32
  | 118 => 0xBD388FDB#32
  | 119 => 0xBFA0C0C2#32
  | 120 => 0x40A1426B#32
  | 121 => 0xBF20E54A#32
  | 122 => 0xBEDCC3F2#32
  | 123 => 0x3F7CA04A#32
  | 124 => 0x404C7167#32
  | 125 => 0x3EC1FCB4#32
  | 126 => 0xBFD7EE55#32
  | 127 => 0x3F930C61#32
  | _ => 0#32

noncomputable abbrev lit0t0_945 (i : Nat) : BitVec 32 := match i % 128 with
  | 0 => 0xBD4423A0#32
  | 1 => 0x3FA2A8D6#32
  | 2 => 0x3F67E655#32
  | 3 => 0x3FC89113#32
  | 4 => 0x40128F7F#32
  | 5 => 0x405E01C9#32
  | 6 => 0x3E5FDD63#32
  | 7 => 0x3ECEC731#32
  | 8 => 0x403E0F52#32
  | 9 => 0xBF40F496#32
  | 10 => 0x3BE91F49#32
  | 11 => 0x3EDAF814#32
  | 12 => 0x3E8627AE#32
  | 13 => 0x3F06DD80#32
  | 14 => 0xBF1F202C#32
  | 15 => 0xBEC8FB11#32
  | 16 => 0xBF1C5FDD#32
  | 17 => 0x3F953E96#32
  | 18 => 0xBE89A31B#32
  | 19 => 0xBF21C4C0#32
  | 20 => 0xBF3A338E#32
  | 21 => 0xBEEACD96#32
  | 22 => 0x4003F850#32
  | 23 => 0xBFAFB4E5#32
  | 24 => 0x3F90059F#32
  | 25 => 0xBFA67F00#32
  | 26 => 0x3F0CF318#32
  | 27 => 0xBEE83244#32
  | 28 => 0x3FE55E2E#32
  | 29 => 0x3FDC9F43#32
  | 30 => 0x3FB09AF5#32
  | 31 => 0x3E8B45EE#32
  | 32 => 0xBDA16402#32
  | 33 => 0xBE6E40D0#32
  | 34 => 0x3D9D1EA3#32
  | 35 => 0x40778FF1#32
  | 36 => 0xBE07B44D#32
  | 37 => 0x3FB13977#32
  | 38 => 0xBF7B9849#32
  | 39 => 0x3DDC09E1#32
  | 40 => 0xBEC3A15A#32
  | 41 => 0xBF21349C#32
  | 42 => 0x3EAE917D#32
  | 43 => 0xBD93663B#32
  | 44 => 0x3F8BE287#32
  | 45 => 0xBF3EE3C1#32
  | 46 => 0xBF2A0900#32
  | 47 => 0x3E8A11B7#32
  | 48 => 0x40D4FA48#32
  | 49 => 0x3D21EE2A#32
  | 50 => 0x3F7586C4#32
  | 51 => 0x3FD333B6#32
  | 52 => 0x3E5FFD2D#32
  | 53 => 0x3E9CF299#32
  | 54 => 0x3F352688#32
  | 55 => 0x3F75B836#32
  | 56 => 0xBFC1E9C5#32
  | 57 => 0xBF3BFD5A#32
  | 58 => 0xBECE151C#32
  | 59 => 0x3FCB139D#32
  | 60 => 0x3F407C11#32
  | 61 => 0xBE63A000#32
  | 62 => 0xBFBE0235#32
  | 63 => 0x3F853320#32
  | 64 => 0x3F0EE478#32
  | 65 => 0x3EDD6F5E#32
  | 66 => 0x3FC280E6#32
  | 67 => 0x3F97C82D#32
  | 68 => 0x3F410BA8#32
  | 69 => 0x3E8EE5CE#32
  | 70 => 0x3EB81369#32
  | 71 => 0x3F2AC786#32
  | 72 => 0xBF6192D9#32
  | 73 => 0x3F7CE559#32
  | 74 => 0xBF7508AE#32
  | 75 => 0x3EF21B9A#32
  | 76 => 0x3FC26300#32
  | 77 => 0xBEA3246D#32
  | 78 => 0x3E039FEC#32
  | 79 => 0x3FE49714#32
  | 80 => 0x3F1CCB8B#32
  | 81 => 0x3DDA6367#32
  | 82 => 0xBF5D4286#32
  | 83 => 0x3F26920D#32
  | 84 => 0xBF2BA771#32
  | 85 => 0x3F9651B4#32
  | 86 => 0x400624E3#32
  | 87 => 0xBCD73CC2#32
  | 88 => 0x3E55103F#32
  | 89 => 0x3E712831#32
  | 90 => 0xBFA34970#32
  | 91 => 0xBF5EEDDC#32
  | 92 => 0x3F601110#32
  | 93 => 0x3E1874F5#32
  | 94 => 0xBEAB7779#32
  | 95 => 0xBF19B630#32
  | 96 => 0x3F60187C#32
  | 97 => 0x3F05FAC3#32
  | 98 => 0x3EDEAA49#32
  | 99 => 0xBE660720#32
  | 100 => 0x3EF70E7C#32
  | 101 => 0x3F548000#32
  | 102 => 0x3ED47E5B#32
  | 103 => 0xBDD502D7#32
  | 104 => 0xBDDAF4CF#32
  | 105 => 0x400A5E6F#32
  | 106 => 0xBF646E7E#32
  | 107 => 0xBE0E866E#32
  | 108 => 0x40598FD2#32
  | 109 => 0xBE8DD09B#32
  | 110 => 0x3F606F9A#32
  | 111 => 0x3EC9BBA0#32
  | 112 => 0xBE143553#32
  | 113 => 0xBD0C553E#32
  | 114 => 0xBF88E758#32
  | 115 => 0xBF1652E0#32
  | 116 => 0x40465C4F#32
  | 117 => 0x3E844034#32
  | 118 => 0xBF8B72EC#32
  | 119 => 0xBF01F52E#32
  | 120 => 0x402E899E#32
  | 121 => 0x4012B6B4#32
  | 122 => 0x3E4D909E#32
  | 123 => 0x409F4376#32
  | 124 => 0x3F067D48#32
  | 125 => 0x3F48F96C#32
  | 126 => 0x3F90C79A#32
  | 127 => 0x3F27759A#32
  | _ => 0#32

noncomputable abbrev lit0t0_946 (i : Nat) : BitVec 32 := match i % 128 with
  | 0 => 0x3F606D78#32
  | 1 => 0x3F8595D4#32
  | 2 => 0x3FB78968#32
  | 3 => 0x3F297B3A#32
  | 4 => 0x3F850A5E#32
  | 5 => 0x40385653#32
  | 6 => 0x400067EA#32
  | 7 => 0x405EB93D#32
  | 8 => 0x3E3F8F54#32
  | 9 => 0x3A4DCCAD#32
  | 10 => 0x405B693C#32
  | 11 => 0xBEFEF173#32
  | 12 => 0x3EE309E4#32
  | 13 => 0xBE94344F#32
  | 14 => 0xBED6948C#32
  | 15 => 0x3F3E130C#32
  | 16 => 0xBEBAACF6#32
  | 17 => 0x4065F534#32
  | 18 => 0xBF852D9B#32
  | 19 => 0xBF1C1F60#32
  | 20 => 0x3D6C0625#32
  | 21 => 0xBF3D5053#32
  | 22 => 0x3DD9E164#32
  | 23 => 0xBFA230EC#32
  | 24 => 0xBF605B17#32
  | 25 => 0xBF4F4761#32
  | 26 => 0x40788785#32
  | 27 => 0x3E5CBCB8#32
  | 28 => 0x3F343CBC#32
  | 29 => 0xBD62E645#32
  | 30 => 0x3F208D8A#32
  | 31 => 0x3FF0C281#32
  | 32 => 0x3F4B0E38#32
  | 33 => 0xBEF8D548#32
  | 34 => 0x4089A44D#32
  | 35 => 0x4058ECC8#32
  | 36 => 0x3FC26A27#32
  | 37 => 0x4000FFB5#32
  | 38 => 0xBF73441A#32
  | 39 => 0x3E2192A3#32
  | 40 => 0x3F4D262F#32
  | 41 => 0x3FED0C24#32
  | 42 => 0x3E8CC7DB#32
  | 43 => 0xBE2F1E72#32
  | 44 => 0x40577FD5#32
  | 45 => 0x3FC50F61#32
  | 46 => 0x3FC457BC#32
  | 47 => 0xBEE7F4D2#32
  | 48 => 0xBEAEAE61#32
  | 49 => 0x3FECDDCF#32
  | 50 => 0xBF027657#32
  | 51 => 0x3F855612#32
  | 52 => 0x3E96E906#32
  | 53 => 0xBF02E343#32
  | 54 => 0x3E277DAC#32
  | 55 => 0xBF05B46E#32
  | 56 => 0x3EE3B3E0#32
  | 57 => 0x3EBD2DF6#32
  | 58 => 0xBD934B5C#32
  | 59 => 0x3FAB9091#32
  | 60 => 0x4058489F#32
  | 61 => 0x3F8F601C#32
  | 62 => 0xBF82163D#32
  | 63 => 0xBF9F6019#32
  | 64 => 0xBF3124BF#32
  | 65 => 0x401AE631#32
  | 66 => 0x3F5F2D14#32
  | 67 => 0xBF68583F#32
  | 68 => 0x3E32EDB9#32
  | 69 => 0xBF503255#32
  | 70 => 0x3E6BD9D0#32
  | 71 => 0x3EF357D0#32
  | 72 => 0x40288571#32
  | 73 => 0xBF790836#32
  | 74 => 0x4086D308#32
  | 75 => 0x3F9A9891#32
  | 76 => 0xBF883F52#32
  | 77 => 0x3F9285E0#32
  | 78 => 0xBDDBD8D6#32
  | 79 => 0x3F8040B8#32
  | 80 => 0xBEE365D0#32
  | 81 => 0xBEF75705#32
  | 82 => 0xBEE2621E#32
  | 83 => 0x4081B618#32
  | 84 => 0x3F32D733#32
  | 85 => 0x3D32A6FD#32
  | 86 => 0xBF061CAE#32
  | 87 => 0xBF61ED49#32
  | 88 => 0x3F7D2F4C#32
  | 89 => 0x3EB8F5B7#32
  | 90 => 0x401706E0#32
  | 91 => 0x3F972AB0#32
  | 92 => 0x3E26EF1D#32
  | 93 => 0x40A9B7C7#32
  | 94 => 0x4004DBE1#32
  | 95 => 0x3F56EFD6#32
  | 96 => 0x3FBF81E6#32
  | 97 => 0x3F892852#32
  | 98 => 0xBF66E467#32
  | 99 => 0x3EEEF814#32
  | 100 => 0xBEA3BDF4#32
  | 101 => 0xBF187EB2#32
  | 102 => 0x3F9A0B68#32
  | 103 => 0x3F876514#32
  | 104 => 0x3EB18D09#32
  | 105 => 0xBF3433F9#32
  | 106 => 0xBEB31BAA#32
  | 107 => 0x3FDAD27E#32
  | 108 => 0xBEFA2E2D#32
  | 109 => 0x408370F5#32
  | 110 => 0x3EF5F370#32
  | 111 => 0x3D903AF0#32
  | 112 => 0x3EAD5EB4#32
  | 113 => 0x3FE7E2E3#32
  | 114 => 0x3F89C741#32
  | 115 => 0xBF060158#32
  | 116 => 0xBF8AAD5B#32
  | 117 => 0xBE062D6C#32
  | 118 => 0x3F9F4C03#32
  | 119 => 0x3F36E125#32
  | 120 => 0xBF6810A4#32
  | 121 => 0xBEDF26E7#32
  | 122 => 0xBDCA5E18#32
  | 123 => 0x3F533AAA#32
  | 124 => 0xBC6F1D23#32
  | 125 => 0xBE8D774D#32
  | 126 => 0x3EA34639#32
  | 127 => 0x3F927942#32
  | _ => 0#32

noncomputable abbrev lit0t0_947 (i : Nat) : BitVec 32 := match i % 128 with
  | 0 => 0xBF3ECACE#32
  | 1 => 0x3E4BADC0#32
  | 2 => 0x4052320C#32
  | 3 => 0x3F83C20E#32
  | 4 => 0x3FA0912E#32
  | 5 => 0x3F09AD3C#32
  | 6 => 0x40322482#32
  | 7 => 0x3D94BF65#32
  | 8 => 0x3E00BCCB#32
  | 9 => 0xBED495F8#32
  | 10 => 0x3DEDA0E4#32
  | 11 => 0xBE8B4ACA#32
  | 12 => 0xBF6E4ABC#32
  | 13 => 0x3FB93A4C#32
  | 14 => 0x3F85EBA2#32
  | 15 => 0x3FB41D61#32
  | 16 => 0xBED86D41#32
  | 17 => 0xBE04D3F0#32
  | 18 => 0xBCD92B0A#32
  | 19 => 0x3FACDDEC#32
  | 20 => 0x403C0068#32
  | 21 => 0xBF5B64F9#32
  | 22 => 0x406DA046#32
  | 23 => 0x40DAE4D2#32
  | 24 => 0xBF1B425D#32
  | 25 => 0xBF4B9213#32
  | 26 => 0x3F9E73E6#32
  | 27 => 0xBDFC1B41#32
  | 28 => 0x408F9AF5#32
  | 29 => 0x3F92FF2F#32
  | 30 => 0x3FA7E7EA#32
  | 31 => 0x3ED415B9#32
  | 32 => 0x3F833664#32
  | 33 => 0x3F2A0993#32
  | 34 => 0xBFA09E16#32
  | 35 => 0x3F35121E#32
  | 36 => 0xBED5525A#32
  | 37 => 0x407519A7#32
  | 38 => 0x3F28AC98#32
  | 39 => 0x3F026CB2#32
  | 40 => 0xBF33C10E#32
  | 41 => 0xBF2EADF3#32
  | 42 => 0xBF3FF8C1#32
  | 43 => 0xBE659306#32
  | 44 => 0xBE284F96#32
  | 45 => 0x3F6C2E04#32
  | 46 => 0x3FFA6A72#32
  | 47 => 0x3FC597BE#32
  | 48 => 0x3F8CC51A#32
  | 49 => 0x3E8F7521#32
  | 50 => 0xBEBB7302#32
  | 51 => 0x3FC933D8#32
  | 52 => 0xBF13B0D4#32
  | 53 => 0x3E8E20F1#32
  | 54 => 0xBE81F628#32
  | 55 => 0x3FDEB89B#32
  | 56 => 0xBEB0343A#32
  | 57 => 0x3F391FDC#32
  | 58 => 0xBF12349F#32
  | 59 => 0x3FD7B359#32
  | 60 => 0x3D8F7A24#32
  | 61 => 0xBFD2E04E#32
  | 62 => 0x3FCAE609#32
  | 63 => 0xBF3C762C#32
  | 64 => 0x400C0D6B#32
  | 65 => 0x406790B3#32
  | 66 => 0x4052A335#32
  | 67 => 0x3F4B5417#32
  | 68 => 0x3F5D6552#32
  | 69 => 0x3E79D821#32
  | 70 => 0x3F919A35#32
  | 71 => 0xBE0BEBA1#32
  | 72 => 0x3FEC39A5#32
  | 73 => 0xBECC0AC8#32
  | 74 => 0xBF46323B#32
  | 75 => 0x3FBE18B4#32
  | 76 => 0xBF403F7F#32
  | 77 => 0x406B5E23#32
  | 78 => 0xBF811F93#32
  | 79 => 0xBEB63651#32
  | 80 => 0xBF8971F3#32
  | 81 => 0xBE91E585#32
  | 82 => 0x3F738734#32
  | 83 => 0x3F2D4872#32
  | 84 => 0x3FB28B1B#32
  | 85 => 0x40251CBF#32
  | 86 => 0x400E1FE9#32
  | 87 => 0x3EE54E00#32
  | 88 => 0x3EFD267E#32
  | 89 => 0x3FBEAD89#32
  | 90 => 0xBE9FDE7B#32
  | 91 => 0xBF492CD5#32
  | 92 => 0x3F0687C2#32
  | 93 => 0x3EAA91D1#32
  | 94 => 0x3E547730#32
  | 95 => 0xBED16210#32
  | 96 => 0x3F31656C#32
  | 97 => 0x409C2553#32
  | 98 => 0xBEC10D78#32
  | 99 => 0xBFB6A922#32
  | 100 => 0x3F95A18C#32
  | 101 => 0x3FCEC40D#32
  | 102 => 0x3E813B10#32
  | 103 => 0xBE83B86A#32
  | 104 => 0x3EEE294E#32
  | 105 => 0x3FF04798#32
  | 106 => 0x3E32319B#32
  | 107 => 0x403D65CF#32
  | 108 => 0x3D5B086C#32
  | 109 => 0x3DBC4EDA#32
  | 110 => 0x3F013556#32
  | 111 => 0x3F413103#32
  | 112 => 0xBE0DC6EA#32
  | 113 => 0x3F3988D7#32
  | 114 => 0x3F4F193F#32
  | 115 => 0x3F5BA31D#32
  | 116 => 0x3E2E3569#32
  | 117 => 0x3DBD4400#32
  | 118 => 0x3E768BD8#32
  | 119 => 0x3F70AAC2#32
  | 120 => 0x3F90A47E#32
  | 121 => 0x4046D4B6#32
  | 122 => 0x3F812416#32
  | 123 => 0x3F0EC25D#32
  | 124 => 0xBC04515A#32
  | 125 => 0x3F7A6E2F#32
  | 126 => 0xBE1987C4#32
  | 127 => 0x3EEA83C4#32
  | _ => 0#32

noncomputable abbrev lit0t0_948 (i : Nat) : BitVec 32 := match i % 128 with
  | 0 => 0x3F258B32#32
  | 1 => 0xBF659351#32
  | 2 => 0xBF84D13D#32
  | 3 => 0x3B2C0CC4#32
  | 4 => 0x3F5B209C#32
  | 5 => 0xBEAEDC3B#32
  | 6 => 0x3F2D9123#32
  | 7 => 0xBDD7C60B#32
  | 8 => 0x3C6142DE#32
  | 9 => 0x3ED6DFEF#32
  | 10 => 0xBF549CF4#32
  | 11 => 0xBF4BB2A7#32
  | 12 => 0x40212710#32
  | 13 => 0xBEC78D71#32
  | 14 => 0xBFA3BBE0#32
  | 15 => 0x4008BD00#32
  | 16 => 0xBEC66607#32
  | 17 => 0x3FE88D8A#32
  | 18 => 0x3FA223DB#32
  | 19 => 0xBFB571F8#32
  | 20 => 0x3DBF2ED2#32
  | 21 => 0x3D9D156D#32
  | 22 => 0x40018121#32
  | 23 => 0x40285329#32
  | 24 => 0x3F2EB267#32
  | 25 => 0x40A2F00D#32
  | 26 => 0xBF0FEAF6#32
  | 27 => 0xBE08FB21#32
  | 28 => 0xBF567736#32
  | 29 => 0x3F44F443#32
  | 30 => 0x3EA710F8#32
  | 31 => 0x409917B7#32
  | 32 => 0x3F9C9F6C#32
  | 33 => 0x3F57CFCC#32
  | 34 => 0xBE064A09#32
  | 35 => 0x40484685#32
  | 36 => 0x3FBFB5B4#32
  | 37 => 0xBFE05272#32
  | 38 => 0x40980656#32
  | 39 => 0xBD5DACEB#32
  | 40 => 0xBF49F988#32
  | 41 => 0x4043BB57#32
  | 42 => 0x3E53A59C#32
  | 43 => 0x3F981241#32
  | 44 => 0xBF490554#32
  | 45 => 0x3EC4E06E#32
  | 46 => 0xBF348713#32
  | 47 => 0xBF328971#32
  | 48 => 0x3EB7915F#32
  | 49 => 0x3F316B86#32
  | 50 => 0xBE3EC801#32
  | 51 => 0x408700D5#32
  | 52 => 0x3F7AC6E5#32
  | 53 => 0xBE3B5768#32
  | 54 => 0x408E6ECA#32
  | 55 => 0x403D0774#32
  | 56 => 0xBEF75138#32
  | 57 => 0x3F755682#32
  | 58 => 0x3F5980E7#32
  | 59 => 0x3FD02000#32
  | 60 => 0x402CD1C7#32
  | 61 => 0x3FCA0601#32
  | 62 => 0xBF96FFD4#32
  | 63 => 0xBF2AF19C#32
  | 64 => 0xBE9AF641#32
  | 65 => 0x3FF95FC6#32
  | 66 => 0xBEBA69D5#32
  | 67 => 0x3E29EFFC#32
  | 68 => 0x3FAA9F8A#32
  | 69 => 0x3BE881AB#32
  | 70 => 0x3F1D9E6A#32
  | 71 => 0xBE9EBAE9#32
  | 72 => 0xBF9E6B45#32
  | 73 => 0xBF5A3466#32
  | 74 => 0xBF745BF6#32
  | 75 => 0x401AABBE#32
  | 76 => 0xBF0F8F12#32
  | 77 => 0xBCB5EB0E#32
  | 78 => 0xBE9267D2#32
  | 79 => 0xBD20C311#32
  | 80 => 0x3EB8E9D6#32
  | 81 => 0x3EE84ED6#32
  | 82 => 0x403DA6A2#32
  | 83 => 0x3FA1D47C#32
  | 84 => 0x40378885#32
  | 85 => 0xBDD9A6DF#32
  | 86 => 0x4000C2F2#32
  | 87 => 0x40145E51#32
  | 88 => 0x3E2BD13A#32
  | 89 => 0x3E90A09B#32
  | 90 => 0x3D9F8717#32
  | 91 => 0x405B2DC4#32
  | 92 => 0x3F0873CE#32
  | 93 => 0x3FE47192#32
  | 94 => 0x3E6B08FA#32
  | 95 => 0xBF74807E#32
  | 96 => 0x3F2908E1#32
  | 97 => 0xBF55E8F8#32
  | 98 => 0xBE664DE9#32
  | 99 => 0x3EC92670#32
  | 100 => 0xBF28904A#32
  | 101 => 0x3F574E0B#32
  | 102 => 0x3E04B6E3#32
  | 103 => 0x3F8D131F#32
  | 104 => 0x4024654A#32
  | 105 => 0xBE9789DF#32
  | 106 => 0x3EAC52D2#32
  | 107 => 0x3F9E7083#32
  | 108 => 0xBDB25E4A#32
  | 109 => 0x3F0EF3D0#32
  | 110 => 0x3E3E9B0F#32
  | 111 => 0x3F883974#32
  | 112 => 0x3F2D8817#32
  | 113 => 0x3CDF4E1D#32
  | 114 => 0x404A8A46#32
  | 115 => 0xBF0A8DA6#32
  | 116 => 0x3F188276#32
  | 117 => 0x3E410459#32
  | 118 => 0xBF0662BD#32
  | 119 => 0xBE9AFD2E#32
  | 120 => 0x3ED559B0#32
  | 121 => 0x3F2FEB27#32
  | 122 => 0xBF2E2909#32
  | 123 => 0x400C9258#32
  | 124 => 0x3FBC4315#32
  | 125 => 0x4020406C#32
  | 126 => 0xBE2CF0B5#32
  | 127 => 0x3E20462E#32
  | _ => 0#32

noncomputable abbrev lit0t0_949 (i : Nat) : BitVec 32 := match i % 128 with
  | 0 => 0x3F991DE3#32
  | 1 => 0x3F498A62#32
  | 2 => 0xBEAA661D#32
  | 3 => 0xBF0AEAA9#32
  | 4 => 0xBF4DC5E1#32
  | 5 => 0x3E525EC8#32
  | 6 => 0x3F5ECA62#32
  | 7 => 0x3FC651B2#32
  | 8 => 0x3E6971AA#32
  | 9 => 0xBECAC596#32
  | 10 => 0xBF31AEB3#32
  | 11 => 0xBEC813C5#32
  | 12 => 0xBF4332F0#32
  | 13 => 0x3E2346BF#32
  | 14 => 0x4050953B#32
  | 15 => 0x3E5DB6D4#32
  | 16 => 0xBF0E6849#32
  | 17 => 0x3D772AC9#32
  | 18 => 0x3EBDDD50#32
  | 19 => 0xBEABAFA7#32
  | 20 => 0x3F9CB73F#32
  | 21 => 0x40113617#32
  | 22 => 0x3E44192C#32
  | 23 => 0x405098E0#32
  | 24 => 0x3FDB38C8#32
  | 25 => 0x3F2C6B12#32
  | 26 => 0xBE513249#32
  | 27 => 0xBF66A578#32
  | 28 => 0x3FD2599C#32
  | 29 => 0x3F813E75#32
  | 30 => 0x3EF51535#32
  | 31 => 0x3F641DDA#32
  | 32 => 0x40320F9E#32
  | 33 => 0x3E8866F9#32
  | 34 => 0xBDD73C27#32
  | 35 => 0xBD08290A#32
  | 36 => 0x3E84D15B#32
  | 37 => 0x40043B07#32
  | 38 => 0x3E4AE756#32
  | 39 => 0x402B0F57#32
  | 40 => 0x3E10D29C#32
  | 41 => 0x3FA061AA#32
  | 42 => 0x3F028AC5#32
  | 43 => 0x40A03839#32
  | 44 => 0x3FDC57FD#32
  | 45 => 0x3FAADEEA#32
  | 46 => 0x3F238343#32
  | 47 => 0xBE65646B#32
  | 48 => 0x3F06EC7B#32
  | 49 => 0xBF39B742#32
  | 50 => 0xBF7E9582#32
  | 51 => 0x3E9D2DC4#32
  | 52 => 0x3F131F1A#32
  | 53 => 0x3E8C86ED#32
  | 54 => 0x3E4D95B7#32
  | 55 => 0x3F3C3F18#32
  | 56 => 0xBF22A089#32
  | 57 => 0x3B9F1EBF#32
  | 58 => 0x3EED120C#32
  | 59 => 0x4097FC51#32
  | 60 => 0xBECB5D5B#32
  | 61 => 0xBFAA0718#32
  | 62 => 0x3F993DF5#32
  | 63 => 0x4042CEBE#32
  | 64 => 0x400F6AEA#32
  | 65 => 0xBD821509#32
  | 66 => 0xBF5C35D8#32
  | 67 => 0x3F373003#32
  | 68 => 0x3F2CD4CA#32
  | 69 => 0x3DF97AAB#32
  | 70 => 0x40714E9C#32
  | 71 => 0x3F8BA7F0#32
  | 72 => 0xBF29E2C2#32
  | 73 => 0x3FB079C0#32
  | 74 => 0x3FB40C28#32
  | 75 => 0x400DB025#32
  | 76 => 0xBEA8D8B4#32
  | 77 => 0xBE764F75#32
  | 78 => 0x3FBFF03E#32
  | 79 => 0xBAB1155D#32
  | 80 => 0x3E144561#32
  | 81 => 0x3F8422AA#32
  | 82 => 0xBFCD7C6C#32
  | 83 => 0x401E1144#32
  | 84 => 0x3E4E367B#32
  | 85 => 0x3E031562#32
  | 86 => 0x4053CFBF#32
  | 87 => 0xBF08E33C#32
  | 88 => 0x3F924E08#32
  | 89 => 0x3FE71B1A#32
  | 90 => 0x3DAC09C0#32
  | 91 => 0x4014A34C#32
  | 92 => 0xBE982955#32
  | 93 => 0x403D0308#32
  | 94 => 0xBF77CD61#32
  | 95 => 0x3EBCDBAB#32
  | 96 => 0xBEC5DD15#32
  | 97 => 0x3FA6D850#32
  | 98 => 0xBD3F0959#32
  | 99 => 0xBF1F5925#32
  | 100 => 0xBDD510DD#32
  | 101 => 0x40285A62#32
  | 102 => 0x3F307529#32
  | 103 => 0x3E786CDE#32
  | 104 => 0x3F64BD70#32
  | 105 => 0x3FD068A2#32
  | 106 => 0x3F4FCB94#32
  | 107 => 0x3F6CCFE0#32
  | 108 => 0xBEDFFA7E#32
  | 109 => 0x3F91851C#32
  | 110 => 0x3EDBA38F#32
  | 111 => 0x405BBF16#32
  | 112 => 0x401F13BF#32
  | 113 => 0x405394AF#32
  | 114 => 0xBE8277BA#32
  | 115 => 0xBE532CA9#32
  | 116 => 0x3E462AF2#32
  | 117 => 0xBFABF378#32
  | 118 => 0xBF3CEE5C#32
  | 119 => 0x3ED6DAB5#32
  | 120 => 0xBF976E94#32
  | 121 => 0x3CFB32B2#32
  | 122 => 0x3F8C7B74#32
  | 123 => 0x3D7ED284#32
  | 124 => 0x3CADD287#32
  | 125 => 0x405903AC#32
  | 126 => 0x400699E5#32
  | 127 => 0x3D906D56#32
  | _ => 0#32

noncomputable abbrev lit0t0_950 (i : Nat) : BitVec 32 := match i % 128 with
  | 0 => 0xBE9D1D63#32
  | 1 => 0x3F88EAD0#32
  | 2 => 0xBE878901#32
  | 3 => 0x3F068119#32
  | 4 => 0xBFA4EE19#32
  | 5 => 0xBEF12F1F#32
  | 6 => 0xBEBE1BD4#32
  | 7 => 0x3F9CE9DD#32
  | 8 => 0x3FFC7ACA#32
  | 9 => 0x3E841D1E#32
  | 10 => 0xBEEBF777#32
  | 11 => 0xBF4AD941#32
  | 12 => 0x409013F6#32
  | 13 => 0x40163A55#32
  | 14 => 0x40407971#32
  | 15 => 0xBF259468#32
  | 16 => 0x3F534FB1#32
  | 17 => 0xBDF2CDB0#32
  | 18 => 0x402BA775#32
  | 19 => 0x402BD500#32
  | 20 => 0x3F79E36E#32
  | 21 => 0x3E3513BA#32
  | 22 => 0xBEF91E77#32
  | 23 => 0xBF8E7E31#32
  | 24 => 0x4009873A#32
  | 25 => 0xBEBCECC5#32
  | 26 => 0x3E994EB2#32
  | 27 => 0x3EC9C142#32
  | 28 => 0x3FE9ECF9#32
  | 29 => 0x3F005E56#32
  | 30 => 0x3F1FAC6D#32
  | 31 => 0x3F133FFB#32
  | 32 => 0x3F808F9E#32
  | 33 => 0xBF97D9F4#32
  | 34 => 0x3FCF5BC5#32
  | 35 => 0x3F022982#32
  | 36 => 0xBFB35FF2#32
  | 37 => 0x3D1A4CA1#32
  | 38 => 0x3E10DB84#32
  | 39 => 0x3F477DB6#32
  | 40 => 0xBEA59AD8#32
  | 41 => 0xBF1DE651#32
  | 42 => 0x405E64A6#32
  | 43 => 0xBF184BDE#32
  | 44 => 0xBF66C45F#32
  | 45 => 0x3F74215C#32
  | 46 => 0x3F9CD832#32
  | 47 => 0x3FCB2ACA#32
  | 48 => 0x4028CCF0#32
  | 49 => 0x3DAFEF9D#32
  | 50 => 0xBE72ED08#32
  | 51 => 0x3F6E19F7#32
  | 52 => 0x3FAC0ED8#32
  | 53 => 0xBE72FADC#32
  | 54 => 0x3EFF0156#32
  | 55 => 0x40A4163F#32
  | 56 => 0xBF1A17AF#32
  | 57 => 0x3F9E86BB#32
  | 58 => 0x4029497C#32
  | 59 => 0x3F5A84CE#32
  | 60 => 0x3E5144E1#32
  | 61 => 0x3FCACBB8#32
  | 62 => 0xBF3533B1#32
  | 63 => 0x404707A3#32
  | 64 => 0x3F5A1C70#32
  | 65 => 0xBF37DA65#32
  | 66 => 0x3FFBF6F7#32
  | 67 => 0x3FC938B4#32
  | 68 => 0x3E236B74#32
  | 69 => 0x3F831899#32
  | 70 => 0x3E745235#32
  | 71 => 0x40570E9B#32
  | 72 => 0xBFA862EC#32
  | 73 => 0x3FFD5FC5#32
  | 74 => 0x4058EE84#32
  | 75 => 0x3FF7BECF#32
  | 76 => 0x3EA711C5#32
  | 77 => 0xBF45942B#32
  | 78 => 0xBF4C47E0#32
  | 79 => 0xBF293AFC#32
  | 80 => 0x40105645#32
  | 81 => 0x3F9AC2D5#32
  | 82 => 0xBCC778B8#32
  | 83 => 0xBFBAB867#32
  | 84 => 0x3F10C2C1#32
  | 85 => 0xBF8FFEB8#32
  | 86 => 0x3FA8C32F#32
  | 87 => 0xBDF6CCE6#32
  | 88 => 0x3EA182CB#32
  | 89 => 0x3F7A99A6#32
  | 90 => 0x3CC9FEB3#32
  | 91 => 0xBE247D90#32
  | 92 => 0x3D9B5427#32
  | 93 => 0x3FB1E3AB#32
  | 94 => 0x3F13C2A2#32
  | 95 => 0x400A9EEC#32
  | 96 => 0x3DC7D337#32
  | 97 => 0x3FB8FDA0#32
  | 98 => 0x403319C6#32
  | 99 => 0x4030C77B#32
  | 100 => 0xBF6A9703#32
  | 101 => 0xBF2F3445#32
  | 102 => 0x3F6C63A4#32
  | 103 => 0xBEDF18DB#32
  | 104 => 0x3F6D787E#32
  | 105 => 0x403B1DD4#32
  | 106 => 0xBEEAC9CC#32
  | 107 => 0x3F0E6E27#32
  | 108 => 0x3F28B693#32
  | 109 => 0xBF92BEE9#32
  | 110 => 0x3EB4154F#32
  | 111 => 0x3F9030C6#32
  | 112 => 0xBF84EF0E#32
  | 113 => 0x40663390#32
  | 114 => 0x3FA7F5AF#32
  | 115 => 0x3FB7507A#32
  | 116 => 0x3C1B92FE#32
  | 117 => 0x3F6FD1EB#32
  | 118 => 0x3EBA738C#32
  | 119 => 0xBF02F91D#32
  | 120 => 0xBD41DC32#32
  | 121 => 0xBF2D93A2#32
  | 122 => 0x3FC12BDF#32
  | 123 => 0xBE1BADE4#32
  | 124 => 0xBF23DB02#32
  | 125 => 0xBE9DB9D5#32
  | 126 => 0x3F88916F#32
  | 127 => 0x3F1116B6#32
  | _ => 0#32

noncomputable abbrev lit0t0_951 (i : Nat) : BitVec 32 := match i % 128 with
  | 0 => 0x3FB96EE0#32
  | 1 => 0x401DF6E8#32
  | 2 => 0x401DD7E0#32
  | 3 => 0x3E9FEAF0#32
  | 4 => 0x403718B1#32
  | 5 => 0xBF4E527A#32
  | 6 => 0x3D6F01EC#32
  | 7 => 0x3D4DC69B#32
  | 8 => 0xBF2A84ED#32
  | 9 => 0xBF5DFDB0#32
  | 10 => 0x401AA9C7#32
  | 11 => 0xBB2AEAE4#32
  | 12 => 0x3D916705#32
  | 13 => 0xBEF279C0#32
  | 14 => 0x40270931#32
  | 15 => 0x4061ACBB#32
  | 16 => 0x3FDB3BEB#32
  | 17 => 0x40283A12#32
  | 18 => 0xBD9BFBD6#32
  | 19 => 0x3D84B5A0#32
  | 20 => 0x3E551ECF#32
  | 21 => 0xBD859B69#32
  | 22 => 0xBD4DA712#32
  | 23 => 0x4040621F#32
  | 24 => 0xBFBB7A54#32
  | 25 => 0x3EBE4917#32
  | 26 => 0x4042FB98#32
  | 27 => 0x3F93996E#32
  | 28 => 0x3F27E0C1#32
  | 29 => 0xBF0E1AA4#32
  | 30 => 0xBEE8989E#32
  | 31 => 0x3DC94679#32
  | 32 => 0x3FB37D62#32
  | 33 => 0x405060B3#32
  | 34 => 0x3F6FBD7A#32
  | 35 => 0x3FACA8FE#32
  | 36 => 0x3EC3CF16#32
  | 37 => 0xBF2561B9#32
  | 38 => 0xBF015584#32
  | 39 => 0x3FE4E63C#32
  | 40 => 0x3F832776#32
  | 41 => 0x403EAB62#32
  | 42 => 0x3DC2B026#32
  | 43 => 0xBE41E9CA#32
  | 44 => 0x3F3F2A20#32
  | 45 => 0x400AADA3#32
  | 46 => 0x3F0F3417#32
  | 47 => 0x3D94F7C0#32
  | 48 => 0xBEAA16D1#32
  | 49 => 0x4065C75E#32
  | 50 => 0x3F01A301#32
  | 51 => 0xBF25FD16#32
  | 52 => 0xBF183BC9#32
  | 53 => 0xBFBFBCD7#32
  | 54 => 0xBED867BF#32
  | 55 => 0xBF3C4FF7#32
  | 56 => 0x40606588#32
  | 57 => 0x3EE23D18#32
  | 58 => 0x3FCC488F#32
  | 59 => 0x3ED39132#32
  | 60 => 0xBF5BF0C0#32
  | 61 => 0x4006C69A#32
  | 62 => 0xBF1528D4#32
  | 63 => 0x3FD92EEB#32
  | 64 => 0xBF769BAC#32
  | 65 => 0xBEB146A6#32
  | 66 => 0x40716187#32
  | 67 => 0xBD379C8B#32
  | 68 => 0xBE9214CA#32
  | 69 => 0x3F9CA4DB#32
  | 70 => 0x404C0425#32
  | 71 => 0x3EEA42DC#32
  | 72 => 0x3FB8A33D#32
  | 73 => 0xBECCFE5C#32
  | 74 => 0xBF57FAB4#32
  | 75 => 0x3F75DD78#32
  | 76 => 0x3ED303B4#32
  | 77 => 0x3EF15F76#32
  | 78 => 0x3EFD49CC#32
  | 79 => 0x3FBA2545#32
  | 80 => 0x3C1BB8D9#32
  | 81 => 0x407AD539#32
  | 82 => 0x3F4547E0#32
  | 83 => 0xBEBE401D#32
  | 84 => 0x3EEE9184#32
  | 85 => 0xBF6EF8CA#32
  | 86 => 0x3F5E4F5C#32
  | 87 => 0x3EE0CDD1#32
  | 88 => 0x3EC742CB#32
  | 89 => 0x3F79DE52#32
  | 90 => 0x3F1AB2F2#32
  | 91 => 0x3E93A44D#32
  | 92 => 0x3D2273CA#32
  | 93 => 0x3F088FA8#32
  | 94 => 0xBEE2F56E#32
  | 95 => 0xBEBD6EFD#32
  | 96 => 0xBDE4E6EF#32
  | 97 => 0xBF6AC16A#32
  | 98 => 0x3F04EA57#32
  | 99 => 0x3F2E4615#32
  | 100 => 0x3FE1EC4C#32
  | 101 => 0x40038C8A#32
  | 102 => 0x3DE2CF87#32
  | 103 => 0x40524F9F#32
  | 104 => 0x3C38E492#32
  | 105 => 0x3EAC6F32#32
  | 106 => 0x3E8C8D79#32
  | 107 => 0x3DE2D34C#32
  | 108 => 0x3D7EC338#32
  | 109 => 0x3FC3876F#32
  | 110 => 0x3F9FFC14#32
  | 111 => 0xBF6A4D4A#32
  | 112 => 0xBFA10B9F#32
  | 113 => 0xBF84BB35#32
  | 114 => 0xBDAF708E#32
  | 115 => 0x3F9945F8#32
  | 116 => 0xBE820E2E#32
  | 117 => 0xBF167116#32
  | 118 => 0xBF72854E#32
  | 119 => 0x403494E0#32
  | 120 => 0x3C1ECD62#32
  | 121 => 0xBEB4A719#32
  | 122 => 0xBF3A3122#32
  | 123 => 0x3FC9B168#32
  | 124 => 0x3FB95C2D#32
  | 125 => 0xBF6E79EE#32
  | 126 => 0x3FC48C58#32
  | 127 => 0x3E045F60#32
  | _ => 0#32

noncomputable abbrev lit0t0_952 (i : Nat) : BitVec 32 := match i % 128 with
  | 0 => 0x3F67FD62#32
  | 1 => 0xBF28B7EF#32
  | 2 => 0xBF204F18#32
  | 3 => 0xBF836537#32
  | 4 => 0xBF0E828E#32
  | 5 => 0x3FE8149A#32
  | 6 => 0xBFA0C15A#32
  | 7 => 0x3F431BEA#32
  | 8 => 0x3F03D65C#32
  | 9 => 0x3F83A2AA#32
  | 10 => 0x3FFE822F#32
  | 11 => 0x3F962E2E#32
  | 12 => 0x3EC6692C#32
  | 13 => 0x40086181#32
  | 14 => 0x3C72D774#32
  | 15 => 0x3F1E59E2#32
  | 16 => 0x3EC9F2C0#32
  | 17 => 0xBE4A655E#32
  | 18 => 0x3E55E527#32
  | 19 => 0x3FBBA34B#32
  | 20 => 0x3FD3DD7D#32
  | 21 => 0x3FC10B33#32
  | 22 => 0x3ECF94C8#32
  | 23 => 0x40282500#32
  | 24 => 0x3F67CECC#32
  | 25 => 0x3F9C287E#32
  | 26 => 0x3F3371B6#32
  | 27 => 0x3F413ECA#32
  | 28 => 0x3EFBDB2E#32
  | 29 => 0xBE978800#32
  | 30 => 0xBE34798F#32
  | 31 => 0x3F53B52A#32
  | 32 => 0xBDF94E5D#32
  | 33 => 0x3EE7BDF8#32
  | 34 => 0xBF3BB05D#32
  | 35 => 0xBE2A2FB4#32
  | 36 => 0xBEFCBDCE#32
  | 37 => 0x4043C1A9#32
  | 38 => 0xBF64FC35#32
  | 39 => 0x3FD23F04#32
  | 40 => 0x40017B24#32
  | 41 => 0x3FE15F1D#32
  | 42 => 0x3D400565#32
  | 43 => 0xBEB8EB88#32
  | 44 => 0xBF939245#32
  | 45 => 0x3EAD84A0#32
  | 46 => 0x3FF993E6#32
  | 47 => 0xBE3B94A4#32
  | 48 => 0x3F3F8EBD#32
  | 49 => 0x40AA1BA4#32
  | 50 => 0xBF1006B7#32
  | 51 => 0x3FB31902#32
  | 52 => 0x3F039206#32
  | 53 => 0x3E816652#32
  | 54 => 0xBFA49F84#32
  | 55 => 0xBF4FD7E1#32
  | 56 => 0x4011613E#32
  | 57 => 0xBFAA8C01#32
  | 58 => 0x40404A95#32
  | 59 => 0xBF80A68E#32
  | 60 => 0xBDC6A950#32
  | 61 => 0x3F84515C#32
  | 62 => 0xBF866EC8#32
  | 63 => 0x3E8EB950#32
  | 64 => 0x3DC99F5D#32
  | 65 => 0xBD9B1087#32
  | 66 => 0x4056A053#32
  | 67 => 0xBF447EA0#32
  | 68 => 0x40BF1DE2#32
  | 69 => 0x3E0B8535#32
  | 70 => 0x3EE8144C#32
  | 71 => 0x3FA3CF2C#32
  | 72 => 0x3FDD031F#32
  | 73 => 0xBF8614F5#32
  | 74 => 0xBD105AB7#32
  | 75 => 0x3F561178#32
  | 76 => 0x3E91A4E7#32
  | 77 => 0x402074FE#32
  | 78 => 0xBE464D53#32
  | 79 => 0x3F0FD7D9#32
  | 80 => 0xBF865636#32
  | 81 => 0x3F8AD98C#32
  | 82 => 0xBFB67AA0#32
  | 83 => 0xBEF1D08C#32
  | 84 => 0x3D36147A#32
  | 85 => 0x3F1A63C7#32
  | 86 => 0x3E3C212D#32
  | 87 => 0x3E84E5BA#32
  | 88 => 0x405D1600#32
  | 89 => 0xBEAA759D#32
  | 90 => 0x3E53CD0E#32
  | 91 => 0x3D4BA8B0#32
  | 92 => 0x3E9472A6#32
  | 93 => 0x4012E3B7#32
  | 94 => 0xBF337C42#32
  | 95 => 0x3F989511#32
  | 96 => 0x400B0BFF#32
  | 97 => 0x3DA22DA0#32
  | 98 => 0x3F9D4721#32
  | 99 => 0xBF71F3A3#32
  | 100 => 0x3EA985F1#32
  | 101 => 0xBF8549A8#32
  | 102 => 0x3CF24DA1#32
  | 103 => 0x40191A4D#32
  | 104 => 0xBE4AE0DF#32
  | 105 => 0x3F3D302D#32
  | 106 => 0xBF592914#32
  | 107 => 0x3F5EB89B#32
  | 108 => 0x3E587B63#32
  | 109 => 0xBF94A626#32
  | 110 => 0xBFA7803F#32
  | 111 => 0xBEE252CB#32
  | 112 => 0xBF448618#32
  | 113 => 0xBEAD9CE2#32
  | 114 => 0x40144923#32
  | 115 => 0x3F30E4FF#32
  | 116 => 0xBF81CDED#32
  | 117 => 0x3E81CA10#32
  | 118 => 0x401C6D47#32
  | 119 => 0x3F315D41#32
  | 120 => 0x40080FB1#32
  | 121 => 0xBD92D476#32
  | 122 => 0x3F8F8664#32
  | 123 => 0x3F2BE2FC#32
  | 124 => 0xBF2C38BC#32
  | 125 => 0x3F9CCABA#32
  | 126 => 0x3EA9B5EB#32
  | 127 => 0xBF37E6A9#32
  | _ => 0#32

noncomputable abbrev lit0t0_953 (i : Nat) : BitVec 32 := match i % 128 with
  | 0 => 0xBF8A3086#32
  | 1 => 0xBD7663A4#32
  | 2 => 0xBF8F9216#32
  | 3 => 0x3FB4C16C#32
  | 4 => 0x3F933A80#32
  | 5 => 0x3F21A0EB#32
  | 6 => 0x3EAD66CB#32
  | 7 => 0x3EDDA82F#32
  | 8 => 0x402C334F#32
  | 9 => 0x3FA1C389#32
  | 10 => 0x3D402763#32
  | 11 => 0xBF44CB92#32
  | 12 => 0x3FBF4623#32
  | 13 => 0x3F08A236#32
  | 14 => 0x3F0F6BC1#32
  | 15 => 0x3F82956E#32
  | 16 => 0xBE805435#32
  | 17 => 0x3F8A07E4#32
  | 18 => 0x3EA5A5A8#32
  | 19 => 0xBC885109#32
  | 20 => 0xBEBF7E9A#32
  | 21 => 0x3F0C01B5#32
  | 22 => 0x402EFD5F#32
  | 23 => 0x3EA6653A#32
  | 24 => 0x3FF815D2#32
  | 25 => 0x3FC88DEA#32
  | 26 => 0xBF8C0187#32
  | 27 => 0x3F2913DC#32
  | 28 => 0x4000FC87#32
  | 29 => 0x4032260E#32
  | 30 => 0x3FDC4507#32
  | 31 => 0x405C3756#32
  | 32 => 0xBD42AA4F#32
  | 33 => 0x3F2C1A75#32
  | 34 => 0x3FE9A395#32
  | 35 => 0xBFB5D7AD#32
  | 36 => 0xBF259020#32
  | 37 => 0x3E36067F#32
  | 38 => 0x3F8177E8#32
  | 39 => 0x3EBFAB7D#32
  | 40 => 0x3CC80B17#32
  | 41 => 0x3F4EE0AF#32
  | 42 => 0x3F57B969#32
  | 43 => 0xBEC30173#32
  | 44 => 0x4051130B#32
  | 45 => 0xBE3FA0DC#32
  | 46 => 0xBF867756#32
  | 47 => 0x3E924692#32
  | 48 => 0x3E928C44#32
  | 49 => 0x3DFCD195#32
  | 50 => 0x3DC47739#32
  | 51 => 0x3FC9DD34#32
  | 52 => 0xBFA80F00#32
  | 53 => 0xBF45AD78#32
  | 54 => 0x4009E3E7#32
  | 55 => 0x402E0620#32
  | 56 => 0x3E310405#32
  | 57 => 0x3FD7754A#32
  | 58 => 0xBFAD5FD0#32
  | 59 => 0x3F83C9B0#32
  | 60 => 0xBF3EF02B#32
  | 61 => 0xBF7543A8#32
  | 62 => 0x3E8E8C07#32
  | 63 => 0x408DA57E#32
  | 64 => 0x3EDC520C#32
  | 65 => 0x3E973966#32
  | 66 => 0x3DFB6051#32
  | 67 => 0x40173F14#32
  | 68 => 0x3F8FC1CA#32
  | 69 => 0x3F096939#32
  | 70 => 0x3F6481ED#32
  | 71 => 0x3F85437C#32
  | 72 => 0x3FBCB4A5#32
  | 73 => 0xBF08022A#32
  | 74 => 0x3EAE0C16#32
  | 75 => 0xBF187845#32
  | 76 => 0x404E7144#32
  | 77 => 0x3EBDF25C#32
  | 78 => 0x3FB74D6D#32
  | 79 => 0x3FBBD266#32
  | 80 => 0xBDCF1E2C#32
  | 81 => 0xBEB950E3#32
  | 82 => 0x3FF7676F#32
  | 83 => 0x4032E827#32
  | 84 => 0xBEFBE488#32
  | 85 => 0x3F824814#32
  | 86 => 0xBF45FE6C#32
  | 87 => 0xBF856C4D#32
  | 88 => 0xBEBB8460#32
  | 89 => 0x4050DAA0#32
  | 90 => 0x3F280DF6#32
  | 91 => 0x4032A3A2#32
  | 92 => 0xBF4ECE9C#32
  | 93 => 0xBF565A69#32
  | 94 => 0x401DFA38#32
  | 95 => 0x3F0DE7B2#32
  | 96 => 0xBDD28213#32
  | 97 => 0xBECFB004#32
  | 98 => 0xBF65C33E#32
  | 99 => 0xBF6D1090#32
  | 100 => 0x3FC0F306#32
  | 101 => 0xBF341312#32
  | 102 => 0x4032C963#32
  | 103 => 0x3FE0CEBF#32
  | 104 => 0x3FF5FA54#32
  | 105 => 0xBEEE0399#32
  | 106 => 0xBE685053#32
  | 107 => 0x3F5DC164#32
  | 108 => 0xBE39151D#32
  | 109 => 0x3E36626B#32
  | 110 => 0x3F9AFC6C#32
  | 111 => 0x3F43648E#32
  | 112 => 0x3FC518B9#32
  | 113 => 0xBE684471#32
  | 114 => 0xBF291B1F#32
  | 115 => 0x3FCB5F4C#32
  | 116 => 0xBE7BC272#32
  | 117 => 0xBF4D8DB6#32
  | 118 => 0x3F3BD86E#32
  | 119 => 0xBF4A1515#32
  | 120 => 0xBF21E95B#32
  | 121 => 0xBEF827C1#32
  | 122 => 0x3FB25C71#32
  | 123 => 0x3C59CBB3#32
  | 124 => 0xBF7BCBB7#32
  | 125 => 0x3F970CD2#32
  | 126 => 0x3E94C076#32
  | 127 => 0x401792CA#32
  | _ => 0#32

noncomputable abbrev lit0t0_954 (i : Nat) : BitVec 32 := match i % 128 with
  | 0 => 0x3EEE53BB#32
  | 1 => 0x3FCEF3E0#32
  | 2 => 0xBE8DF8E1#32
  | 3 => 0xBF0EB460#32
  | 4 => 0x3F5D2BE6#32
  | 5 => 0xBC0F7BB1#32
  | 6 => 0x3E526748#32
  | 7 => 0x3F30F592#32
  | 8 => 0x3F0F1077#32
  | 9 => 0xBE89E521#32
  | 10 => 0xBE0A7B13#32
  | 11 => 0xBF9C7BC7#32
  | 12 => 0xBEE558AA#32
  | 13 => 0x3E652C73#32
  | 14 => 0xBE80C694#32
  | 15 => 0x3F43B0A7#32
  | 16 => 0x3F255D11#32
  | 17 => 0xBFA09147#32
  | 18 => 0x3E12B738#32
  | 19 => 0xBE870392#32
  | 20 => 0xBF324182#32
  | 21 => 0xBF01C421#32
  | 22 => 0x3D8D26CD#32
  | 23 => 0xBD148F27#32
  | 24 => 0x3FEBD42D#32
  | 25 => 0xBEFA1ED0#32
  | 26 => 0xBE89B032#32
  | 27 => 0x40A40C26#32
  | 28 => 0x3F19B02A#32
  | 29 => 0x3F101232#32
  | 30 => 0xBE8DE8A0#32
  | 31 => 0xBF0A1832#32
  | 32 => 0xBDA1B7D2#32
  | 33 => 0xBF25A6C5#32
  | 34 => 0xBF478712#32
  | 35 => 0x3FF45033#32
  | 36 => 0x3FCF576A#32
  | 37 => 0x3D957655#32
  | 38 => 0x3EF97DF0#32
  | 39 => 0x3F340262#32
  | 40 => 0x3E95F12B#32
  | 41 => 0xBF5DC94A#32
  | 42 => 0x3E1B05F9#32
  | 43 => 0xBFBD6CD2#32
  | 44 => 0xBE2D709B#32
  | 45 => 0xBF69E5A4#32
  | 46 => 0x3F365E62#32
  | 47 => 0x3F1AA8F8#32
  | 48 => 0x3FFAA439#32
  | 49 => 0xBF7A07A8#32
  | 50 => 0x3EE1AE6B#32
  | 51 => 0x3EAA05B3#32
  | 52 => 0xBF5F5FB0#32
  | 53 => 0xBF082364#32
  | 54 => 0xBFE854FC#32
  | 55 => 0xBEA57B5D#32
  | 56 => 0x3D77BD1D#32
  | 57 => 0xBE8C3BCA#32
  | 58 => 0x400610F1#32
  | 59 => 0x3D669328#32
  | 60 => 0x3E4FDB07#32
  | 61 => 0x40B665D7#32
  | 62 => 0x3E9CF255#32
  | 63 => 0x3ED2FDE4#32
  | 64 => 0x3FFFCF93#32
  | 65 => 0x3D35B083#32
  | 66 => 0xBE0D7BAB#32
  | 67 => 0xBF19959E#32
  | 68 => 0x400A834B#32
  | 69 => 0x3F224F43#32
  | 70 => 0x401DC2B3#32
  | 71 => 0x3FEB0871#32
  | 72 => 0xBF6B6E84#32
  | 73 => 0xBF6B9A94#32
  | 74 => 0xBF99B72A#32
  | 75 => 0x402A9BB7#32
  | 76 => 0x3F98BB88#32
  | 77 => 0x3DCB031C#32
  | 78 => 0x3F310ACF#32
  | 79 => 0x3FBBCBE4#32
  | 80 => 0x3F74AA0E#32
  | 81 => 0x3E9311C9#32
  | 82 => 0xBF502645#32
  | 83 => 0xBF3C6960#32
  | 84 => 0xBFAAFABD#32
  | 85 => 0x3FCB65EA#32
  | 86 => 0xBF3B5F71#32
  | 87 => 0x40613C38#32
  | 88 => 0x3FBF515C#32
  | 89 => 0xBEC1C496#32
  | 90 => 0xBEBFBEF1#32
  | 91 => 0x3FD15843#32
  | 92 => 0x400F54AB#32
  | 93 => 0xBEC51F13#32
  | 94 => 0x400CD5B3#32
  | 95 => 0xBF4592B9#32
  | 96 => 0x3F30927A#32
  | 97 => 0x408BB388#32
  | 98 => 0x3F1D5D3E#32
  | 99 => 0x3F03D650#32
  | 100 => 0xBEEF33FD#32
  | 101 => 0x3FAFC861#32
  | 102 => 0x4053C0D6#32
  | 103 => 0xBF210F54#32
  | 104 => 0x3FB812FE#32
  | 105 => 0x3D413A45#32
  | 106 => 0x4071EE46#32
  | 107 => 0x3F80FF5E#32
  | 108 => 0x40212988#32
  | 109 => 0xBF35AEC3#32
  | 110 => 0x3F81E1B9#32
  | 111 => 0xBCFDF44E#32
  | 112 => 0xBF0EA766#32
  | 113 => 0x400D74B0#32
  | 114 => 0x3F072DB0#32
  | 115 => 0x3F3801D9#32
  | 116 => 0x3DC6BBAC#32
  | 117 => 0x3E6D2BA9#32
  | 118 => 0x3FC50EFF#32
  | 119 => 0x402B04C4#32
  | 120 => 0x3E1DD333#32
  | 121 => 0xBE5494DD#32
  | 122 => 0x3F4A6549#32
  | 123 => 0x3F260ADA#32
  | 124 => 0xBE46F06A#32
  | 125 => 0xBE2D956F#32
  | 126 => 0x3F251C61#32
  | 127 => 0xBF255826#32
  | _ => 0#32

noncomputable abbrev lit0t0_955 (i : Nat) : BitVec 32 := match i % 128 with
  | 0 => 0x3C9C4E94#32
  | 1 => 0xBDB3F9AD#32
  | 2 => 0x3F2506BE#32
  | 3 => 0x3FA074BC#32
  | 4 => 0xBF0D0456#32
  | 5 => 0x3FE4F8CA#32
  | 6 => 0x3F09D0F6#32
  | 7 => 0xBF3D5CDE#32
  | 8 => 0x3F4203AF#32
  | 9 => 0xBE70C9FC#32
  | 10 => 0x3F377DA7#32
  | 11 => 0xBE0C622D#32
  | 12 => 0x3E3D6868#32
  | 13 => 0x3E5C8DC1#32
  | 14 => 0xBD376A95#32
  | 15 => 0xBC8ED3E5#32
  | 16 => 0xBF1EC21E#32
  | 17 => 0x3FD6B98C#32
  | 18 => 0x40067F93#32
  | 19 => 0xBF5E6F93#32
  | 20 => 0x3EF869CD#32
  | 21 => 0x3FF4834A#32
  | 22 => 0xBF469DD3#32
  | 23 => 0xBEC733FF#32
  | 24 => 0xBD22EC64#32
  | 25 => 0x3F9F4276#32
  | 26 => 0x40358A47#32
  | 27 => 0x3FF01FEE#32
  | 28 => 0xBF329502#32
  | 29 => 0x3DC4E08E#32
  | 30 => 0x3F85C854#32
  | 31 => 0xBF865BEC#32
  | 32 => 0x3FF85EB5#32
  | 33 => 0xBF8D4B98#32
  | 34 => 0x400E75EC#32
  | 35 => 0x3FFF5693#32
  | 36 => 0xBF8E519E#32
  | 37 => 0x3F78755E#32
  | 38 => 0x3DC7205E#32
  | 39 => 0xBF4904EA#32
  | 40 => 0xBE577FAE#32
  | 41 => 0x40965608#32
  | 42 => 0x402BAAC2#32
  | 43 => 0x4075572A#32
  | 44 => 0x3F4D1BEF#32
  | 45 => 0xBEFEAABD#32
  | 46 => 0x3DCCFB0A#32
  | 47 => 0x3FF8EF04#32
  | 48 => 0x3E841607#32
  | 49 => 0xBF86F9F1#32
  | 50 => 0xBF136378#32
  | 51 => 0x3F6BAD58#32
  | 52 => 0xBF97EB28#32
  | 53 => 0x3C81F8CF#32
  | 54 => 0xBF3610CB#32
  | 55 => 0x3F90D0BA#32
  | 56 => 0x3FF0183C#32
  | 57 => 0x3EA37CDF#32
  | 58 => 0x4011C746#32
  | 59 => 0x3FB03FC2#32
  | 60 => 0x3FB5FE96#32
  | 61 => 0xBFAE9BD9#32
  | 62 => 0x404FC140#32
  | 63 => 0xBE2CB2B3#32
  | 64 => 0x3E71A198#32
  | 65 => 0xBEF90F85#32
  | 66 => 0xBF238693#32
  | 67 => 0x3E920662#32
  | 68 => 0x3F24071D#32
  | 69 => 0x3E55E9C1#32
  | 70 => 0xBEB11E87#32
  | 71 => 0x3E202D2F#32
  | 72 => 0x3EFAFA72#32
  | 73 => 0x3FBE36BD#32
  | 74 => 0x3F5F064A#32
  | 75 => 0x3F228A5B#32
  | 76 => 0x3F80EB90#32
  | 77 => 0x3F2B07FB#32
  | 78 => 0x3F1503FF#32
  | 79 => 0x3F772475#32
  | 80 => 0xBF18446B#32
  | 81 => 0x40170E72#32
  | 82 => 0x400D3558#32
  | 83 => 0x3F4F0C3E#32
  | 84 => 0xBE882AF6#32
  | 85 => 0x400DE488#32
  | 86 => 0x3FF4D17D#32
  | 87 => 0x402E370D#32
  | 88 => 0x3FCCA5AC#32
  | 89 => 0xBE850C96#32
  | 90 => 0xBE9C2D5B#32
  | 91 => 0xBEC77343#32
  | 92 => 0xBD547E00#32
  | 93 => 0xBE3619DD#32
  | 94 => 0xBE787831#32
  | 95 => 0xBF594342#32
  | 96 => 0x3E7970D9#32
  | 97 => 0x3F80BA1F#32
  | 98 => 0x3F557F05#32
  | 99 => 0xBE3F483C#32
  | 100 => 0x3FD4FDF6#32
  | 101 => 0x3ECA5652#32
  | 102 => 0xBE2F5384#32
  | 103 => 0x3F981505#32
  | 104 => 0xBDA91D84#32
  | 105 => 0x3F38214D#32
  | 106 => 0x3FBED9D2#32
  | 107 => 0x3ECE01E7#32
  | 108 => 0x3F9E1F4F#32
  | 109 => 0xBEF8565F#32
  | 110 => 0xBE23F68C#32
  | 111 => 0x3E350050#32
  | 112 => 0x3EBBD6BF#32
  | 113 => 0xBD4106E3#32
  | 114 => 0x3FA7D0F7#32
  | 115 => 0xBE9EF926#32
  | 116 => 0xBF00B4AF#32
  | 117 => 0x3DFDCBA6#32
  | 118 => 0x3F50CE4E#32
  | 119 => 0x40B90091#32
  | 120 => 0xBF89808D#32
  | 121 => 0x3F3AF288#32
  | 122 => 0x401764EC#32
  | 123 => 0x3FBC0CB1#32
  | 124 => 0x3EADFE38#32
  | 125 => 0x3F904614#32
  | 126 => 0xBE43F3D4#32
  | 127 => 0x3FA431E8#32
  | _ => 0#32

noncomputable abbrev lit0t0_956 (i : Nat) : BitVec 32 := match i % 128 with
  | 0 => 0x3EFDD656#32
  | 1 => 0xBF20D3FC#32
  | 2 => 0xBF2BB741#32
  | 3 => 0x40689939#32
  | 4 => 0x40249A47#32
  | 5 => 0xBF957426#32
  | 6 => 0xBF919AAE#32
  | 7 => 0xBEDD7C3E#32
  | 8 => 0xBFEC1876#32
  | 9 => 0xBD0939AA#32
  | 10 => 0x3F83058D#32
  | 11 => 0x3EE15BFD#32
  | 12 => 0x3E9155D9#32
  | 13 => 0x3FE5DF8D#32
  | 14 => 0x3F23100C#32
  | 15 => 0xBF0BB037#32
  | 16 => 0x3F572213#32
  | 17 => 0x3FC5F9F3#32
  | 18 => 0x3D5B7CCD#32
  | 19 => 0xBEC7AFDC#32
  | 20 => 0x3F39FD4E#32
  | 21 => 0xBFA26675#32
  | 22 => 0x3F964F0A#32
  | 23 => 0x3E5ED210#32
  | 24 => 0x3FC40C92#32
  | 25 => 0xBF07FB25#32
  | 26 => 0xBE62EA1B#32
  | 27 => 0x3F287B14#32
  | 28 => 0x3DCFC0C2#32
  | 29 => 0xBF2A5EF4#32
  | 30 => 0x3F7457FC#32
  | 31 => 0xBF925112#32
  | 32 => 0x3F647C02#32
  | 33 => 0x402C0EA7#32
  | 34 => 0x3F507E83#32
  | 35 => 0x3F087526#32
  | 36 => 0xBE216444#32
  | 37 => 0xBEAA7082#32
  | 38 => 0xBF308A92#32
  | 39 => 0xBED39223#32
  | 40 => 0xBEA96B9E#32
  | 41 => 0xBF16BEEB#32
  | 42 => 0x3F3A14AF#32
  | 43 => 0x3F7F4C62#32
  | 44 => 0x3F013335#32
  | 45 => 0x3F5188CB#32
  | 46 => 0xBF9E808A#32
  | 47 => 0xBF7DA187#32
  | 48 => 0x3F8FCF93#32
  | 49 => 0xBFB5A661#32
  | 50 => 0xBEA62511#32
  | 51 => 0xBEFB31B4#32
  | 52 => 0xBF5B882D#32
  | 53 => 0xBCC5C5E4#32
  | 54 => 0x3F84E397#32
  | 55 => 0xBF13140C#32
  | 56 => 0x3FC4C025#32
  | 57 => 0x3E849789#32
  | 58 => 0xBFD9E0EC#32
  | 59 => 0x40554EE1#32
  | 60 => 0x3F76F166#32
  | 61 => 0xBE765F28#32
  | 62 => 0xBF1C996A#32
  | 63 => 0xBD9EE69A#32
  | 64 => 0xBF113E00#32
  | 65 => 0xBE7EEF54#32
  | 66 => 0xBEF21F78#32
  | 67 => 0xBF0079E0#32
  | 68 => 0xBF2D24BC#32
  | 69 => 0x3E2CC611#32
  | 70 => 0xBF0B2425#32
  | 71 => 0x3FD401B6#32
  | 72 => 0x40A06924#32
  | 73 => 0x4021E183#32
  | 74 => 0x3F564CBE#32
  | 75 => 0x409FA2DA#32
  | 76 => 0xBF4C6713#32
  | 77 => 0x3F8DB62D#32
  | 78 => 0xBEA4151D#32
  | 79 => 0x3DA06A8F#32
  | 80 => 0x3DB46ADC#32
  | 81 => 0xBF1CEB6E#32
  | 82 => 0x400FEDFE#32
  | 83 => 0x3F1FEF28#32
  | 84 => 0xBFD5600D#32
  | 85 => 0xBE5A54B7#32
  | 86 => 0xBE594BAF#32
  | 87 => 0xBF9929CE#32
  | 88 => 0xBE648731#32
  | 89 => 0x402B7732#32
  | 90 => 0xBF2A2210#32
  | 91 => 0x3F8EA467#32
  | 92 => 0x3F15B8E0#32
  | 93 => 0xBEDE41E8#32
  | 94 => 0x4081CCAC#32
  | 95 => 0x3FA3670B#32
  | 96 => 0x3E19F6F5#32
  | 97 => 0xBF6C87AB#32
  | 98 => 0x3D36F19E#32
  | 99 => 0xBEEC45AA#32
  | 100 => 0x3EB72E63#32
  | 101 => 0xBEA64206#32
  | 102 => 0x3FE08E4C#32
  | 103 => 0x3ECEFD42#32
  | 104 => 0x3D27301B#32
  | 105 => 0xBF91D95F#32
  | 106 => 0xBEA1CE0C#32
  | 107 => 0x3F567791#32
  | 108 => 0x3FBAD74B#32
  | 109 => 0x3E62C6D8#32
  | 110 => 0x401E9F61#32
  | 111 => 0x3F5A5C91#32
  | 112 => 0x3E68657A#32
  | 113 => 0x3E9E60FC#32
  | 114 => 0x40AA46E7#32
  | 115 => 0xBF754A28#32
  | 116 => 0xBF4BECE9#32
  | 117 => 0x3F8ED500#32
  | 118 => 0x3C5656DC#32
  | 119 => 0xBEDF0B58#32
  | 120 => 0x3F97221B#32
  | 121 => 0x3F92787C#32
  | 122 => 0x3F65C2B0#32
  | 123 => 0xBF9A5488#32
  | 124 => 0x3EBBBAD6#32
  | 125 => 0xBE9590A4#32
  | 126 => 0x3DF6E384#32
  | 127 => 0xBF12F99A#32
  | _ => 0#32

noncomputable abbrev lit0t0_957 (i : Nat) : BitVec 32 := match i % 128 with
  | 0 => 0x3FA73524#32
  | 1 => 0xBE945014#32
  | 2 => 0x40350FD8#32
  | 3 => 0x3E82FB49#32
  | 4 => 0xBEBCA6F1#32
  | 5 => 0x3ECAAA75#32
  | 6 => 0xBED40491#32
  | 7 => 0x3F88C051#32
  | 8 => 0xBFCF0ECC#32
  | 9 => 0x3EB6A6C0#32
  | 10 => 0x3DA7C8D6#32
  | 11 => 0x3FE1EC22#32
  | 12 => 0x3FE4A660#32
  | 13 => 0xBF3EF2BC#32
  | 14 => 0x3EDEFDCE#32
  | 15 => 0x3F84838F#32
  | 16 => 0xBF1CBB30#32
  | 17 => 0xBF728B9C#32
  | 18 => 0x3F6BC2C4#32
  | 19 => 0xBF01AA24#32
  | 20 => 0xBF8D5CAD#32
  | 21 => 0xBED51FBE#32
  | 22 => 0xBF905B4E#32
  | 23 => 0x3F6B0F54#32
  | 24 => 0x407B2630#32
  | 25 => 0x40490849#32
  | 26 => 0xBF89EA10#32
  | 27 => 0x3F9575FA#32
  | 28 => 0x3FA99006#32
  | 29 => 0xBE617429#32
  | 30 => 0x40961D74#32
  | 31 => 0xBF195716#32
  | 32 => 0x3F872AEC#32
  | 33 => 0x3FFE6A68#32
  | 34 => 0x3FF31794#32
  | 35 => 0xBF07D5AE#32
  | 36 => 0x3ED21474#32
  | 37 => 0x401C12A0#32
  | 38 => 0x402DCA85#32
  | 39 => 0xBE623D0E#32
  | 40 => 0xBF84D142#32
  | 41 => 0x3D02B984#32
  | 42 => 0xBF35A22D#32
  | 43 => 0x40855583#32
  | 44 => 0xBF181A7F#32
  | 45 => 0xBF3A5C2D#32
  | 46 => 0x3E21DD2A#32
  | 47 => 0x3E536D49#32
  | 48 => 0x4084F5D8#32
  | 49 => 0xBF1B88F1#32
  | 50 => 0x4084611B#32
  | 51 => 0xBF47E886#32
  | 52 => 0x3ED7A61A#32
  | 53 => 0x3F40FF7C#32
  | 54 => 0x3FC1CF75#32
  | 55 => 0x3FC8859D#32
  | 56 => 0x3F0A3EE9#32
  | 57 => 0x3F8590F8#32
  | 58 => 0x3F19863D#32
  | 59 => 0x3F0E1CF1#32
  | 60 => 0x3F31D477#32
  | 61 => 0x405F233C#32
  | 62 => 0x400F6FFB#32
  | 63 => 0xBE97A349#32
  | 64 => 0xBEF6499C#32
  | 65 => 0x3ED173C4#32
  | 66 => 0x3CA2B54E#32
  | 67 => 0x4081DDD9#32
  | 68 => 0x3EFB56D0#32
  | 69 => 0x3FEB80B2#32
  | 70 => 0xBFD701EC#32
  | 71 => 0xBE9F16D3#32
  | 72 => 0xBF9BFE52#32
  | 73 => 0x3F2D76E9#32
  | 74 => 0x401269A7#32
  | 75 => 0xBF279FE5#32
  | 76 => 0x3F5458AE#32
  | 77 => 0xBF090C2A#32
  | 78 => 0xBF202E6E#32
  | 79 => 0x3FBE95EC#32
  | 80 => 0x3E868F72#32
  | 81 => 0x3F4F87D4#32
  | 82 => 0xBF6671E0#32
  | 83 => 0x401A5F31#32
  | 84 => 0x3FE58A35#32
  | 85 => 0x3F41E183#32
  | 86 => 0xBF69D8AC#32
  | 87 => 0x3FB4F594#32
  | 88 => 0xBECF5DD1#32
  | 89 => 0x3EF8295C#32
  | 90 => 0x3F8A3307#32
  | 91 => 0x3FFAAEE8#32
  | 92 => 0x3F921076#32
  | 93 => 0xBE720DBA#32
  | 94 => 0xBFCFEC43#32
  | 95 => 0x3F01C86D#32
  | 96 => 0x3E44AC74#32
  | 97 => 0x3F38271E#32
  | 98 => 0x4027B7D3#32
  | 99 => 0xBEEB48CD#32
  | 100 => 0xBE42FABE#32
  | 101 => 0x3F8BC570#32
  | 102 => 0x3FED43D4#32
  | 103 => 0x3F04009E#32
  | 104 => 0x3F09B515#32
  | 105 => 0xBE855ED3#32
  | 106 => 0xBEDB1D18#32
  | 107 => 0x3E3F1C0F#32
  | 108 => 0x3F69057E#32
  | 109 => 0xBF0FDF47#32
  | 110 => 0xBF989362#32
  | 111 => 0xBCD1C6FD#32
  | 112 => 0x3FC77BB0#32
  | 113 => 0xBD85F880#32
  | 114 => 0x40B10CD8#32
  | 115 => 0x3F01D963#32
  | 116 => 0xBF87808D#32
  | 117 => 0xBFA02688#32
  | 118 => 0x3D3E4E3E#32
  | 119 => 0x3F968CFE#32
  | 120 => 0x3E0F10EB#32
  | 121 => 0x3F723AE2#32
  | 122 => 0x3F626DAB#32
  | 123 => 0x3F0B4B99#32
  | 124 => 0x3CD4814A#32
  | 125 => 0xBF14C080#32
  | 126 => 0xBF11D6AD#32
  | 127 => 0xBD95E599#32
  | _ => 0#32

noncomputable abbrev lit0t0_958 (i : Nat) : BitVec 32 := match i % 128 with
  | 0 => 0x3D7FB1D2#32
  | 1 => 0x3FE288DB#32
  | 2 => 0xBF187759#32
  | 3 => 0x3FBED68A#32
  | 4 => 0xBE0D6BF7#32
  | 5 => 0x401A9D8E#32
  | 6 => 0xBF6FFA0C#32
  | 7 => 0x3FE046F8#32
  | 8 => 0x3EC54548#32
  | 9 => 0xBD8C68DC#32
  | 10 => 0x3EFC673C#32
  | 11 => 0x3F27A121#32
  | 12 => 0xBE852518#32
  | 13 => 0x3FA5D8D8#32
  | 14 => 0x3E366058#32
  | 15 => 0xBF3C3C73#32
  | 16 => 0xBFA213F2#32
  | 17 => 0x4013617F#32
  | 18 => 0xBF0D0506#32
  | 19 => 0x3E266643#32
  | 20 => 0x3EBF28EF#32
  | 21 => 0x3F34FD8B#32
  | 22 => 0xBF6B84AC#32
  | 23 => 0x400407A1#32
  | 24 => 0x3FFFA285#32
  | 25 => 0x3FA45D42#32
  | 26 => 0x3F01C996#32
  | 27 => 0xBF953ACC#32
  | 28 => 0x3F11D6C2#32
  | 29 => 0x40B22DB6#32
  | 30 => 0x3FD1A6FE#32
  | 31 => 0xBF1D5D78#32
  | 32 => 0xBF97BD27#32
  | 33 => 0x3CECC175#32
  | 34 => 0x3F98D8F0#32
  | 35 => 0x3F82374B#32
  | 36 => 0x3EA243A4#32
  | 37 => 0xBEB55578#32
  | 38 => 0x401FE21A#32
  | 39 => 0xBF12F825#32
  | 40 => 0xBD9A6323#32
  | 41 => 0x406AF682#32
  | 42 => 0xBEB8BD42#32
  | 43 => 0x3C29120D#32
  | 44 => 0x3F3A5906#32
  | 45 => 0x3FAE993E#32
  | 46 => 0x3E577E94#32
  | 47 => 0xBEE20016#32
  | 48 => 0xBFACB730#32
  | 49 => 0x3F46DD66#32
  | 50 => 0xBF1B7C28#32
  | 51 => 0x3F21617A#32
  | 52 => 0x40173821#32
  | 53 => 0x3E856B24#32
  | 54 => 0xBE1D8833#32
  | 55 => 0xBED7E770#32
  | 56 => 0x3FA6C525#32
  | 57 => 0x402D6BAB#32
  | 58 => 0x3FF8EEF4#32
  | 59 => 0x3F72A39E#32
  | 60 => 0x3F96017C#32
  | 61 => 0x4089C771#32
  | 62 => 0xBC6CC6E3#32
  | 63 => 0x407F535E#32
  | 64 => 0x3FCDD4A3#32
  | 65 => 0xBE139372#32
  | 66 => 0x4003DBD7#32
  | 67 => 0x3DAE6101#32
  | 68 => 0x3F23EB92#32
  | 69 => 0x40378564#32
  | 70 => 0x3F737930#32
  | 71 => 0xBF1697CC#32
  | 72 => 0xBF8238CC#32
  | 73 => 0xBF48D8BF#32
  | 74 => 0xBD29C4C2#32
  | 75 => 0x3F6798AC#32
  | 76 => 0x3EDD2DAC#32
  | 77 => 0xBD771E2F#32
  | 78 => 0x40203B5E#32
  | 79 => 0x409E640A#32
  | 80 => 0x3F3C6A60#32
  | 81 => 0xBDB7BB18#32
  | 82 => 0x400038A3#32
  | 83 => 0x3FDDEF13#32
  | 84 => 0xBF2B3604#32
  | 85 => 0xBE6F19B2#32
  | 86 => 0x40A87380#32
  | 87 => 0x3FDA0A03#32
  | 88 => 0xBF2EABB9#32
  | 89 => 0xBF0F25E5#32
  | 90 => 0x3FAEF71B#32
  | 91 => 0x3FD1E957#32
  | 92 => 0x3FB1A690#32
  | 93 => 0x3EE28F9D#32
  | 94 => 0xBF05FBB0#32
  | 95 => 0x3E89869E#32
  | 96 => 0x3FB7FF8D#32
  | 97 => 0x3EB53007#32
  | 98 => 0x403AE85E#32
  | 99 => 0x3F3A948F#32
  | 100 => 0x3F0D3A0B#32
  | 101 => 0x3E8D5401#32
  | 102 => 0x3F66D7F5#32
  | 103 => 0xBF327D11#32
  | 104 => 0xBF80C193#32
  | 105 => 0x3FA19027#32
  | 106 => 0xBF96FDE7#32
  | 107 => 0x3E768FDC#32
  | 108 => 0x3F7C5F02#32
  | 109 => 0x3FB78256#32
  | 110 => 0xBF95B237#32
  | 111 => 0xBF580B8B#32
  | 112 => 0x3FC38B2B#32
  | 113 => 0xBFAF0B9D#32
  | 114 => 0xBF8B51BA#32
  | 115 => 0x3F87BA00#32
  | 116 => 0x402153E4#32
  | 117 => 0x40949DBD#32
  | 118 => 0x3E4D1304#32
  | 119 => 0xBE9D119C#32
  | 120 => 0x3F4E35DD#32
  | 121 => 0xBE1AAD2D#32
  | 122 => 0xBC3D7A6E#32
  | 123 => 0x3F609EFA#32
  | 124 => 0xBEBD5148#32
  | 125 => 0xBF89AECF#32
  | 126 => 0xBECF9C6A#32
  | 127 => 0xBEDF1510#32
  | _ => 0#32

noncomputable abbrev lit0t0_959 (i : Nat) : BitVec 32 := match i % 128 with
  | 0 => 0x3FED00E0#32
  | 1 => 0xBF078762#32
  | 2 => 0x3FD7053A#32
  | 3 => 0xBEF6FDE8#32
  | 4 => 0x3FF6CA84#32
  | 5 => 0xBA0F85F1#32
  | 6 => 0xBF074CFC#32
  | 7 => 0x3FB10CC9#32
  | 8 => 0x3F215C34#32
  | 9 => 0xBF0C4A48#32
  | 10 => 0xBFF97C43#32
  | 11 => 0x3F41ACEF#32
  | 12 => 0x401B6C85#32
  | 13 => 0x4005C55E#32
  | 14 => 0x3E9F8CD9#32
  | 15 => 0xBE892EBB#32
  | 16 => 0x40B332D7#32
  | 17 => 0xBFB1A479#32
  | 18 => 0x402B0C5E#32
  | 19 => 0x3F74671A#32
  | 20 => 0x402D69B9#32
  | 21 => 0xBE47E71E#32
  | 22 => 0x3DE52DE9#32
  | 23 => 0x3EE8A747#32
  | 24 => 0x4039781F#32
  | 25 => 0xBF965042#32
  | 26 => 0x3FA1B2B5#32
  | 27 => 0x3FF69A46#32
  | 28 => 0x3F93EA1D#32
  | 29 => 0x3F05F7EC#32
  | 30 => 0x3F597805#32
  | 31 => 0xBE30891B#32
  | 32 => 0x401E55CA#32
  | 33 => 0x3F7E3457#32
  | 34 => 0x3F12EC79#32
  | 35 => 0xBF97B795#32
  | 36 => 0x3E4B7AC7#32
  | 37 => 0x4003AC09#32
  | 38 => 0x4096FFCF#32
  | 39 => 0x3F9B7593#32
  | 40 => 0xBF9EB535#32
  | 41 => 0x3FDE64D8#32
  | 42 => 0x3F081486#32
  | 43 => 0xBE389217#32
  | 44 => 0x3F26A35D#32
  | 45 => 0x3FBBE464#32
  | 46 => 0xBE5B3A62#32
  | 47 => 0x3DB99766#32
  | 48 => 0xBFB1C31A#32
  | 49 => 0xBF620A41#32
  | 50 => 0x3FDDE91C#32
  | 51 => 0x3F853181#32
  | 52 => 0x3FBF5AC0#32
  | 53 => 0x3F65E1FC#32
  | 54 => 0x4034F7B1#32
  | 55 => 0x40C39152#32
  | 56 => 0xBD84CFE6#32
  | 57 => 0x400A1C20#32
  | 58 => 0x3FF7DDB5#32
  | 59 => 0x40081C38#32
  | 60 => 0x3FEBAC03#32
  | 61 => 0xBF3E5447#32
  | 62 => 0x402146A1#32
  | 63 => 0xBFBADFBC#32
  | 64 => 0x3F2CA948#32
  | 65 => 0x3F027110#32
  | 66 => 0x3F84D281#32
  | 67 => 0x3F624204#32
  | 68 => 0x3F78FD1C#32
  | 69 => 0x3E8F3769#32
  | 70 => 0xBF9BB5AA#32
  | 71 => 0x3FACCC0D#32
  | 72 => 0x3E437F17#32
  | 73 => 0x3F9D964D#32
  | 74 => 0x3FC2BE2E#32
  | 75 => 0xBEF9759A#32
  | 76 => 0xBF0C8283#32
  | 77 => 0x3F8C8B8A#32
  | 78 => 0x3FAD81E8#32
  | 79 => 0x3C6FED09#32
  | 80 => 0x3FE88428#32
  | 81 => 0x3F7030D5#32
  | 82 => 0xBF75D85D#32
  | 83 => 0xBE7E8F52#32
  | 84 => 0x40345C30#32
  | 85 => 0xBD43977D#32
  | 86 => 0xBD9BB352#32
  | 87 => 0xBF07C081#32
  | 88 => 0x3EC02AF3#32
  | 89 => 0xBE861372#32
  | 90 => 0xBE048D2B#32
  | 91 => 0xBEE30BC4#32
  | 92 => 0x400548D1#32
  | 93 => 0x3F94FA89#32
  | 94 => 0x3F6F50CA#32
  | 95 => 0x406A3447#32
  | 96 => 0xBF06F286#32
  | 97 => 0x3F66B1D6#32
  | 98 => 0xBEE8799C#32
  | 99 => 0xBF3CD22B#32
  | 100 => 0xBFB0D5E8#32
  | 101 => 0x3F6C4ACD#32
  | 102 => 0x3F5110B5#32
  | 103 => 0xBAFA42CC#32
  | 104 => 0xBF427BCE#32
  | 105 => 0xBE906327#32
  | 106 => 0xBED6D4E8#32
  | 107 => 0xBE9F0DC4#32
  | 108 => 0x3E4E8C30#32
  | 109 => 0x3E9C9B36#32
  | 110 => 0xBF41BF9A#32
  | 111 => 0xBF60AFAC#32
  | 112 => 0x3F35BFA7#32
  | 113 => 0x3EFF6AD3#32
  | 114 => 0x4061F34E#32
  | 115 => 0xBEB411A2#32
  | 116 => 0x3F96D84D#32
  | 117 => 0xBEFCDA93#32
  | 118 => 0x3FCB8006#32
  | 119 => 0xBF7558DE#32
  | 120 => 0x3EA3EE77#32
  | 121 => 0x4007BC4B#32
  | 122 => 0x3FB1D7D7#32
  | 123 => 0x3FB493D3#32
  | 124 => 0x3F627C98#32
  | 125 => 0xBFB53254#32
  | 126 => 0xBE9FEE3A#32
  | 127 => 0x3FB0D9CB#32
  | _ => 0#32

noncomputable abbrev lit0t1_0 (i : Nat) : BitVec 32 := match i / 128 % 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | 79 => lit0t0_79 i
  | 80 => lit0t0_80 i
  | 81 => lit0t0_81 i
  | 82 => lit0t0_82 i
  | 83 => lit0t0_83 i
  | 84 => lit0t0_84 i
  | 85 => lit0t0_85 i
  | 86 => lit0t0_86 i
  | 87 => lit0t0_87 i
  | 88 => lit0t0_88 i
  | 89 => lit0t0_89 i
  | 90 => lit0t0_90 i
  | 91 => lit0t0_91 i
  | 92 => lit0t0_92 i
  | 93 => lit0t0_93 i
  | 94 => lit0t0_94 i
  | 95 => lit0t0_95 i
  | 96 => lit0t0_96 i
  | 97 => lit0t0_97 i
  | 98 => lit0t0_98 i
  | 99 => lit0t0_99 i
  | 100 => lit0t0_100 i
  | 101 => lit0t0_101 i
  | 102 => lit0t0_102 i
  | 103 => lit0t0_103 i
  | 104 => lit0t0_104 i
  | 105 => lit0t0_105 i
  | 106 => lit0t0_106 i
  | 107 => lit0t0_107 i
  | 108 => lit0t0_108 i
  | 109 => lit0t0_109 i
  | 110 => lit0t0_110 i
  | 111 => lit0t0_111 i
  | 112 => lit0t0_112 i
  | 113 => lit0t0_113 i
  | 114 => lit0t0_114 i
  | 115 => lit0t0_115 i
  | 116 => lit0t0_116 i
  | 117 => lit0t0_117 i
  | 118 => lit0t0_118 i
  | 119 => lit0t0_119 i
  | 120 => lit0t0_120 i
  | 121 => lit0t0_121 i
  | 122 => lit0t0_122 i
  | 123 => lit0t0_123 i
  | 124 => lit0t0_124 i
  | 125 => lit0t0_125 i
  | 126 => lit0t0_126 i
  | 127 => lit0t0_127 i
  | _ => 0#32

noncomputable abbrev lit0t1_1 (i : Nat) : BitVec 32 := match i / 128 % 128 with
  | 0 => lit0t0_128 i
  | 1 => lit0t0_129 i
  | 2 => lit0t0_130 i
  | 3 => lit0t0_131 i
  | 4 => lit0t0_132 i
  | 5 => lit0t0_133 i
  | 6 => lit0t0_134 i
  | 7 => lit0t0_135 i
  | 8 => lit0t0_136 i
  | 9 => lit0t0_137 i
  | 10 => lit0t0_138 i
  | 11 => lit0t0_139 i
  | 12 => lit0t0_140 i
  | 13 => lit0t0_141 i
  | 14 => lit0t0_142 i
  | 15 => lit0t0_143 i
  | 16 => lit0t0_144 i
  | 17 => lit0t0_145 i
  | 18 => lit0t0_146 i
  | 19 => lit0t0_147 i
  | 20 => lit0t0_148 i
  | 21 => lit0t0_149 i
  | 22 => lit0t0_150 i
  | 23 => lit0t0_151 i
  | 24 => lit0t0_152 i
  | 25 => lit0t0_153 i
  | 26 => lit0t0_154 i
  | 27 => lit0t0_155 i
  | 28 => lit0t0_156 i
  | 29 => lit0t0_157 i
  | 30 => lit0t0_158 i
  | 31 => lit0t0_159 i
  | 32 => lit0t0_160 i
  | 33 => lit0t0_161 i
  | 34 => lit0t0_162 i
  | 35 => lit0t0_163 i
  | 36 => lit0t0_164 i
  | 37 => lit0t0_165 i
  | 38 => lit0t0_166 i
  | 39 => lit0t0_167 i
  | 40 => lit0t0_168 i
  | 41 => lit0t0_169 i
  | 42 => lit0t0_170 i
  | 43 => lit0t0_171 i
  | 44 => lit0t0_172 i
  | 45 => lit0t0_173 i
  | 46 => lit0t0_174 i
  | 47 => lit0t0_175 i
  | 48 => lit0t0_176 i
  | 49 => lit0t0_177 i
  | 50 => lit0t0_178 i
  | 51 => lit0t0_179 i
  | 52 => lit0t0_180 i
  | 53 => lit0t0_181 i
  | 54 => lit0t0_182 i
  | 55 => lit0t0_183 i
  | 56 => lit0t0_184 i
  | 57 => lit0t0_185 i
  | 58 => lit0t0_186 i
  | 59 => lit0t0_187 i
  | 60 => lit0t0_188 i
  | 61 => lit0t0_189 i
  | 62 => lit0t0_190 i
  | 63 => lit0t0_191 i
  | 64 => lit0t0_192 i
  | 65 => lit0t0_193 i
  | 66 => lit0t0_194 i
  | 67 => lit0t0_195 i
  | 68 => lit0t0_196 i
  | 69 => lit0t0_197 i
  | 70 => lit0t0_198 i
  | 71 => lit0t0_199 i
  | 72 => lit0t0_200 i
  | 73 => lit0t0_201 i
  | 74 => lit0t0_202 i
  | 75 => lit0t0_203 i
  | 76 => lit0t0_204 i
  | 77 => lit0t0_205 i
  | 78 => lit0t0_206 i
  | 79 => lit0t0_207 i
  | 80 => lit0t0_208 i
  | 81 => lit0t0_209 i
  | 82 => lit0t0_210 i
  | 83 => lit0t0_211 i
  | 84 => lit0t0_212 i
  | 85 => lit0t0_213 i
  | 86 => lit0t0_214 i
  | 87 => lit0t0_215 i
  | 88 => lit0t0_216 i
  | 89 => lit0t0_217 i
  | 90 => lit0t0_218 i
  | 91 => lit0t0_219 i
  | 92 => lit0t0_220 i
  | 93 => lit0t0_221 i
  | 94 => lit0t0_222 i
  | 95 => lit0t0_223 i
  | 96 => lit0t0_224 i
  | 97 => lit0t0_225 i
  | 98 => lit0t0_226 i
  | 99 => lit0t0_227 i
  | 100 => lit0t0_228 i
  | 101 => lit0t0_229 i
  | 102 => lit0t0_230 i
  | 103 => lit0t0_231 i
  | 104 => lit0t0_232 i
  | 105 => lit0t0_233 i
  | 106 => lit0t0_234 i
  | 107 => lit0t0_235 i
  | 108 => lit0t0_236 i
  | 109 => lit0t0_237 i
  | 110 => lit0t0_238 i
  | 111 => lit0t0_239 i
  | 112 => lit0t0_240 i
  | 113 => lit0t0_241 i
  | 114 => lit0t0_242 i
  | 115 => lit0t0_243 i
  | 116 => lit0t0_244 i
  | 117 => lit0t0_245 i
  | 118 => lit0t0_246 i
  | 119 => lit0t0_247 i
  | 120 => lit0t0_248 i
  | 121 => lit0t0_249 i
  | 122 => lit0t0_250 i
  | 123 => lit0t0_251 i
  | 124 => lit0t0_252 i
  | 125 => lit0t0_253 i
  | 126 => lit0t0_254 i
  | 127 => lit0t0_255 i
  | _ => 0#32

noncomputable abbrev lit0t1_2 (i : Nat) : BitVec 32 := match i / 128 % 128 with
  | 0 => lit0t0_256 i
  | 1 => lit0t0_257 i
  | 2 => lit0t0_258 i
  | 3 => lit0t0_259 i
  | 4 => lit0t0_260 i
  | 5 => lit0t0_261 i
  | 6 => lit0t0_262 i
  | 7 => lit0t0_263 i
  | 8 => lit0t0_264 i
  | 9 => lit0t0_265 i
  | 10 => lit0t0_266 i
  | 11 => lit0t0_267 i
  | 12 => lit0t0_268 i
  | 13 => lit0t0_269 i
  | 14 => lit0t0_270 i
  | 15 => lit0t0_271 i
  | 16 => lit0t0_272 i
  | 17 => lit0t0_273 i
  | 18 => lit0t0_274 i
  | 19 => lit0t0_275 i
  | 20 => lit0t0_276 i
  | 21 => lit0t0_277 i
  | 22 => lit0t0_278 i
  | 23 => lit0t0_279 i
  | 24 => lit0t0_280 i
  | 25 => lit0t0_281 i
  | 26 => lit0t0_282 i
  | 27 => lit0t0_283 i
  | 28 => lit0t0_284 i
  | 29 => lit0t0_285 i
  | 30 => lit0t0_286 i
  | 31 => lit0t0_287 i
  | 32 => lit0t0_288 i
  | 33 => lit0t0_289 i
  | 34 => lit0t0_290 i
  | 35 => lit0t0_291 i
  | 36 => lit0t0_292 i
  | 37 => lit0t0_293 i
  | 38 => lit0t0_294 i
  | 39 => lit0t0_295 i
  | 40 => lit0t0_296 i
  | 41 => lit0t0_297 i
  | 42 => lit0t0_298 i
  | 43 => lit0t0_299 i
  | 44 => lit0t0_300 i
  | 45 => lit0t0_301 i
  | 46 => lit0t0_302 i
  | 47 => lit0t0_303 i
  | 48 => lit0t0_304 i
  | 49 => lit0t0_305 i
  | 50 => lit0t0_306 i
  | 51 => lit0t0_307 i
  | 52 => lit0t0_308 i
  | 53 => lit0t0_309 i
  | 54 => lit0t0_310 i
  | 55 => lit0t0_311 i
  | 56 => lit0t0_312 i
  | 57 => lit0t0_313 i
  | 58 => lit0t0_314 i
  | 59 => lit0t0_315 i
  | 60 => lit0t0_316 i
  | 61 => lit0t0_317 i
  | 62 => lit0t0_318 i
  | 63 => lit0t0_319 i
  | 64 => lit0t0_320 i
  | 65 => lit0t0_321 i
  | 66 => lit0t0_322 i
  | 67 => lit0t0_323 i
  | 68 => lit0t0_324 i
  | 69 => lit0t0_325 i
  | 70 => lit0t0_326 i
  | 71 => lit0t0_327 i
  | 72 => lit0t0_328 i
  | 73 => lit0t0_329 i
  | 74 => lit0t0_330 i
  | 75 => lit0t0_331 i
  | 76 => lit0t0_332 i
  | 77 => lit0t0_333 i
  | 78 => lit0t0_334 i
  | 79 => lit0t0_335 i
  | 80 => lit0t0_336 i
  | 81 => lit0t0_337 i
  | 82 => lit0t0_338 i
  | 83 => lit0t0_339 i
  | 84 => lit0t0_340 i
  | 85 => lit0t0_341 i
  | 86 => lit0t0_342 i
  | 87 => lit0t0_343 i
  | 88 => lit0t0_344 i
  | 89 => lit0t0_345 i
  | 90 => lit0t0_346 i
  | 91 => lit0t0_347 i
  | 92 => lit0t0_348 i
  | 93 => lit0t0_349 i
  | 94 => lit0t0_350 i
  | 95 => lit0t0_351 i
  | 96 => lit0t0_352 i
  | 97 => lit0t0_353 i
  | 98 => lit0t0_354 i
  | 99 => lit0t0_355 i
  | 100 => lit0t0_356 i
  | 101 => lit0t0_357 i
  | 102 => lit0t0_358 i
  | 103 => lit0t0_359 i
  | 104 => lit0t0_360 i
  | 105 => lit0t0_361 i
  | 106 => lit0t0_362 i
  | 107 => lit0t0_363 i
  | 108 => lit0t0_364 i
  | 109 => lit0t0_365 i
  | 110 => lit0t0_366 i
  | 111 => lit0t0_367 i
  | 112 => lit0t0_368 i
  | 113 => lit0t0_369 i
  | 114 => lit0t0_370 i
  | 115 => lit0t0_371 i
  | 116 => lit0t0_372 i
  | 117 => lit0t0_373 i
  | 118 => lit0t0_374 i
  | 119 => lit0t0_375 i
  | 120 => lit0t0_376 i
  | 121 => lit0t0_377 i
  | 122 => lit0t0_378 i
  | 123 => lit0t0_379 i
  | 124 => lit0t0_380 i
  | 125 => lit0t0_381 i
  | 126 => lit0t0_382 i
  | 127 => lit0t0_383 i
  | _ => 0#32

noncomputable abbrev lit0t1_3 (i : Nat) : BitVec 32 := match i / 128 % 128 with
  | 0 => lit0t0_384 i
  | 1 => lit0t0_385 i
  | 2 => lit0t0_386 i
  | 3 => lit0t0_387 i
  | 4 => lit0t0_388 i
  | 5 => lit0t0_389 i
  | 6 => lit0t0_390 i
  | 7 => lit0t0_391 i
  | 8 => lit0t0_392 i
  | 9 => lit0t0_393 i
  | 10 => lit0t0_394 i
  | 11 => lit0t0_395 i
  | 12 => lit0t0_396 i
  | 13 => lit0t0_397 i
  | 14 => lit0t0_398 i
  | 15 => lit0t0_399 i
  | 16 => lit0t0_400 i
  | 17 => lit0t0_401 i
  | 18 => lit0t0_402 i
  | 19 => lit0t0_403 i
  | 20 => lit0t0_404 i
  | 21 => lit0t0_405 i
  | 22 => lit0t0_406 i
  | 23 => lit0t0_407 i
  | 24 => lit0t0_408 i
  | 25 => lit0t0_409 i
  | 26 => lit0t0_410 i
  | 27 => lit0t0_411 i
  | 28 => lit0t0_412 i
  | 29 => lit0t0_413 i
  | 30 => lit0t0_414 i
  | 31 => lit0t0_415 i
  | 32 => lit0t0_416 i
  | 33 => lit0t0_417 i
  | 34 => lit0t0_418 i
  | 35 => lit0t0_419 i
  | 36 => lit0t0_420 i
  | 37 => lit0t0_421 i
  | 38 => lit0t0_422 i
  | 39 => lit0t0_423 i
  | 40 => lit0t0_424 i
  | 41 => lit0t0_425 i
  | 42 => lit0t0_426 i
  | 43 => lit0t0_427 i
  | 44 => lit0t0_428 i
  | 45 => lit0t0_429 i
  | 46 => lit0t0_430 i
  | 47 => lit0t0_431 i
  | 48 => lit0t0_432 i
  | 49 => lit0t0_433 i
  | 50 => lit0t0_434 i
  | 51 => lit0t0_435 i
  | 52 => lit0t0_436 i
  | 53 => lit0t0_437 i
  | 54 => lit0t0_438 i
  | 55 => lit0t0_439 i
  | 56 => lit0t0_440 i
  | 57 => lit0t0_441 i
  | 58 => lit0t0_442 i
  | 59 => lit0t0_443 i
  | 60 => lit0t0_444 i
  | 61 => lit0t0_445 i
  | 62 => lit0t0_446 i
  | 63 => lit0t0_447 i
  | 64 => lit0t0_448 i
  | 65 => lit0t0_449 i
  | 66 => lit0t0_450 i
  | 67 => lit0t0_451 i
  | 68 => lit0t0_452 i
  | 69 => lit0t0_453 i
  | 70 => lit0t0_454 i
  | 71 => lit0t0_455 i
  | 72 => lit0t0_456 i
  | 73 => lit0t0_457 i
  | 74 => lit0t0_458 i
  | 75 => lit0t0_459 i
  | 76 => lit0t0_460 i
  | 77 => lit0t0_461 i
  | 78 => lit0t0_462 i
  | 79 => lit0t0_463 i
  | 80 => lit0t0_464 i
  | 81 => lit0t0_465 i
  | 82 => lit0t0_466 i
  | 83 => lit0t0_467 i
  | 84 => lit0t0_468 i
  | 85 => lit0t0_469 i
  | 86 => lit0t0_470 i
  | 87 => lit0t0_471 i
  | 88 => lit0t0_472 i
  | 89 => lit0t0_473 i
  | 90 => lit0t0_474 i
  | 91 => lit0t0_475 i
  | 92 => lit0t0_476 i
  | 93 => lit0t0_477 i
  | 94 => lit0t0_478 i
  | 95 => lit0t0_479 i
  | 96 => lit0t0_480 i
  | 97 => lit0t0_481 i
  | 98 => lit0t0_482 i
  | 99 => lit0t0_483 i
  | 100 => lit0t0_484 i
  | 101 => lit0t0_485 i
  | 102 => lit0t0_486 i
  | 103 => lit0t0_487 i
  | 104 => lit0t0_488 i
  | 105 => lit0t0_489 i
  | 106 => lit0t0_490 i
  | 107 => lit0t0_491 i
  | 108 => lit0t0_492 i
  | 109 => lit0t0_493 i
  | 110 => lit0t0_494 i
  | 111 => lit0t0_495 i
  | 112 => lit0t0_496 i
  | 113 => lit0t0_497 i
  | 114 => lit0t0_498 i
  | 115 => lit0t0_499 i
  | 116 => lit0t0_500 i
  | 117 => lit0t0_501 i
  | 118 => lit0t0_502 i
  | 119 => lit0t0_503 i
  | 120 => lit0t0_504 i
  | 121 => lit0t0_505 i
  | 122 => lit0t0_506 i
  | 123 => lit0t0_507 i
  | 124 => lit0t0_508 i
  | 125 => lit0t0_509 i
  | 126 => lit0t0_510 i
  | 127 => lit0t0_511 i
  | _ => 0#32

noncomputable abbrev lit0t1_4 (i : Nat) : BitVec 32 := match i / 128 % 128 with
  | 0 => lit0t0_512 i
  | 1 => lit0t0_513 i
  | 2 => lit0t0_514 i
  | 3 => lit0t0_515 i
  | 4 => lit0t0_516 i
  | 5 => lit0t0_517 i
  | 6 => lit0t0_518 i
  | 7 => lit0t0_519 i
  | 8 => lit0t0_520 i
  | 9 => lit0t0_521 i
  | 10 => lit0t0_522 i
  | 11 => lit0t0_523 i
  | 12 => lit0t0_524 i
  | 13 => lit0t0_525 i
  | 14 => lit0t0_526 i
  | 15 => lit0t0_527 i
  | 16 => lit0t0_528 i
  | 17 => lit0t0_529 i
  | 18 => lit0t0_530 i
  | 19 => lit0t0_531 i
  | 20 => lit0t0_532 i
  | 21 => lit0t0_533 i
  | 22 => lit0t0_534 i
  | 23 => lit0t0_535 i
  | 24 => lit0t0_536 i
  | 25 => lit0t0_537 i
  | 26 => lit0t0_538 i
  | 27 => lit0t0_539 i
  | 28 => lit0t0_540 i
  | 29 => lit0t0_541 i
  | 30 => lit0t0_542 i
  | 31 => lit0t0_543 i
  | 32 => lit0t0_544 i
  | 33 => lit0t0_545 i
  | 34 => lit0t0_546 i
  | 35 => lit0t0_547 i
  | 36 => lit0t0_548 i
  | 37 => lit0t0_549 i
  | 38 => lit0t0_550 i
  | 39 => lit0t0_551 i
  | 40 => lit0t0_552 i
  | 41 => lit0t0_553 i
  | 42 => lit0t0_554 i
  | 43 => lit0t0_555 i
  | 44 => lit0t0_556 i
  | 45 => lit0t0_557 i
  | 46 => lit0t0_558 i
  | 47 => lit0t0_559 i
  | 48 => lit0t0_560 i
  | 49 => lit0t0_561 i
  | 50 => lit0t0_562 i
  | 51 => lit0t0_563 i
  | 52 => lit0t0_564 i
  | 53 => lit0t0_565 i
  | 54 => lit0t0_566 i
  | 55 => lit0t0_567 i
  | 56 => lit0t0_568 i
  | 57 => lit0t0_569 i
  | 58 => lit0t0_570 i
  | 59 => lit0t0_571 i
  | 60 => lit0t0_572 i
  | 61 => lit0t0_573 i
  | 62 => lit0t0_574 i
  | 63 => lit0t0_575 i
  | 64 => lit0t0_576 i
  | 65 => lit0t0_577 i
  | 66 => lit0t0_578 i
  | 67 => lit0t0_579 i
  | 68 => lit0t0_580 i
  | 69 => lit0t0_581 i
  | 70 => lit0t0_582 i
  | 71 => lit0t0_583 i
  | 72 => lit0t0_584 i
  | 73 => lit0t0_585 i
  | 74 => lit0t0_586 i
  | 75 => lit0t0_587 i
  | 76 => lit0t0_588 i
  | 77 => lit0t0_589 i
  | 78 => lit0t0_590 i
  | 79 => lit0t0_591 i
  | 80 => lit0t0_592 i
  | 81 => lit0t0_593 i
  | 82 => lit0t0_594 i
  | 83 => lit0t0_595 i
  | 84 => lit0t0_596 i
  | 85 => lit0t0_597 i
  | 86 => lit0t0_598 i
  | 87 => lit0t0_599 i
  | 88 => lit0t0_600 i
  | 89 => lit0t0_601 i
  | 90 => lit0t0_602 i
  | 91 => lit0t0_603 i
  | 92 => lit0t0_604 i
  | 93 => lit0t0_605 i
  | 94 => lit0t0_606 i
  | 95 => lit0t0_607 i
  | 96 => lit0t0_608 i
  | 97 => lit0t0_609 i
  | 98 => lit0t0_610 i
  | 99 => lit0t0_611 i
  | 100 => lit0t0_612 i
  | 101 => lit0t0_613 i
  | 102 => lit0t0_614 i
  | 103 => lit0t0_615 i
  | 104 => lit0t0_616 i
  | 105 => lit0t0_617 i
  | 106 => lit0t0_618 i
  | 107 => lit0t0_619 i
  | 108 => lit0t0_620 i
  | 109 => lit0t0_621 i
  | 110 => lit0t0_622 i
  | 111 => lit0t0_623 i
  | 112 => lit0t0_624 i
  | 113 => lit0t0_625 i
  | 114 => lit0t0_626 i
  | 115 => lit0t0_627 i
  | 116 => lit0t0_628 i
  | 117 => lit0t0_629 i
  | 118 => lit0t0_630 i
  | 119 => lit0t0_631 i
  | 120 => lit0t0_632 i
  | 121 => lit0t0_633 i
  | 122 => lit0t0_634 i
  | 123 => lit0t0_635 i
  | 124 => lit0t0_636 i
  | 125 => lit0t0_637 i
  | 126 => lit0t0_638 i
  | 127 => lit0t0_639 i
  | _ => 0#32

noncomputable abbrev lit0t1_5 (i : Nat) : BitVec 32 := match i / 128 % 128 with
  | 0 => lit0t0_640 i
  | 1 => lit0t0_641 i
  | 2 => lit0t0_642 i
  | 3 => lit0t0_643 i
  | 4 => lit0t0_644 i
  | 5 => lit0t0_645 i
  | 6 => lit0t0_646 i
  | 7 => lit0t0_647 i
  | 8 => lit0t0_648 i
  | 9 => lit0t0_649 i
  | 10 => lit0t0_650 i
  | 11 => lit0t0_651 i
  | 12 => lit0t0_652 i
  | 13 => lit0t0_653 i
  | 14 => lit0t0_654 i
  | 15 => lit0t0_655 i
  | 16 => lit0t0_656 i
  | 17 => lit0t0_657 i
  | 18 => lit0t0_658 i
  | 19 => lit0t0_659 i
  | 20 => lit0t0_660 i
  | 21 => lit0t0_661 i
  | 22 => lit0t0_662 i
  | 23 => lit0t0_663 i
  | 24 => lit0t0_664 i
  | 25 => lit0t0_665 i
  | 26 => lit0t0_666 i
  | 27 => lit0t0_667 i
  | 28 => lit0t0_668 i
  | 29 => lit0t0_669 i
  | 30 => lit0t0_670 i
  | 31 => lit0t0_671 i
  | 32 => lit0t0_672 i
  | 33 => lit0t0_673 i
  | 34 => lit0t0_674 i
  | 35 => lit0t0_675 i
  | 36 => lit0t0_676 i
  | 37 => lit0t0_677 i
  | 38 => lit0t0_678 i
  | 39 => lit0t0_679 i
  | 40 => lit0t0_680 i
  | 41 => lit0t0_681 i
  | 42 => lit0t0_682 i
  | 43 => lit0t0_683 i
  | 44 => lit0t0_684 i
  | 45 => lit0t0_685 i
  | 46 => lit0t0_686 i
  | 47 => lit0t0_687 i
  | 48 => lit0t0_688 i
  | 49 => lit0t0_689 i
  | 50 => lit0t0_690 i
  | 51 => lit0t0_691 i
  | 52 => lit0t0_692 i
  | 53 => lit0t0_693 i
  | 54 => lit0t0_694 i
  | 55 => lit0t0_695 i
  | 56 => lit0t0_696 i
  | 57 => lit0t0_697 i
  | 58 => lit0t0_698 i
  | 59 => lit0t0_699 i
  | 60 => lit0t0_700 i
  | 61 => lit0t0_701 i
  | 62 => lit0t0_702 i
  | 63 => lit0t0_703 i
  | 64 => lit0t0_704 i
  | 65 => lit0t0_705 i
  | 66 => lit0t0_706 i
  | 67 => lit0t0_707 i
  | 68 => lit0t0_708 i
  | 69 => lit0t0_709 i
  | 70 => lit0t0_710 i
  | 71 => lit0t0_711 i
  | 72 => lit0t0_712 i
  | 73 => lit0t0_713 i
  | 74 => lit0t0_714 i
  | 75 => lit0t0_715 i
  | 76 => lit0t0_716 i
  | 77 => lit0t0_717 i
  | 78 => lit0t0_718 i
  | 79 => lit0t0_719 i
  | 80 => lit0t0_720 i
  | 81 => lit0t0_721 i
  | 82 => lit0t0_722 i
  | 83 => lit0t0_723 i
  | 84 => lit0t0_724 i
  | 85 => lit0t0_725 i
  | 86 => lit0t0_726 i
  | 87 => lit0t0_727 i
  | 88 => lit0t0_728 i
  | 89 => lit0t0_729 i
  | 90 => lit0t0_730 i
  | 91 => lit0t0_731 i
  | 92 => lit0t0_732 i
  | 93 => lit0t0_733 i
  | 94 => lit0t0_734 i
  | 95 => lit0t0_735 i
  | 96 => lit0t0_736 i
  | 97 => lit0t0_737 i
  | 98 => lit0t0_738 i
  | 99 => lit0t0_739 i
  | 100 => lit0t0_740 i
  | 101 => lit0t0_741 i
  | 102 => lit0t0_742 i
  | 103 => lit0t0_743 i
  | 104 => lit0t0_744 i
  | 105 => lit0t0_745 i
  | 106 => lit0t0_746 i
  | 107 => lit0t0_747 i
  | 108 => lit0t0_748 i
  | 109 => lit0t0_749 i
  | 110 => lit0t0_750 i
  | 111 => lit0t0_751 i
  | 112 => lit0t0_752 i
  | 113 => lit0t0_753 i
  | 114 => lit0t0_754 i
  | 115 => lit0t0_755 i
  | 116 => lit0t0_756 i
  | 117 => lit0t0_757 i
  | 118 => lit0t0_758 i
  | 119 => lit0t0_759 i
  | 120 => lit0t0_760 i
  | 121 => lit0t0_761 i
  | 122 => lit0t0_762 i
  | 123 => lit0t0_763 i
  | 124 => lit0t0_764 i
  | 125 => lit0t0_765 i
  | 126 => lit0t0_766 i
  | 127 => lit0t0_767 i
  | _ => 0#32

noncomputable abbrev lit0t1_6 (i : Nat) : BitVec 32 := match i / 128 % 128 with
  | 0 => lit0t0_768 i
  | 1 => lit0t0_769 i
  | 2 => lit0t0_770 i
  | 3 => lit0t0_771 i
  | 4 => lit0t0_772 i
  | 5 => lit0t0_773 i
  | 6 => lit0t0_774 i
  | 7 => lit0t0_775 i
  | 8 => lit0t0_776 i
  | 9 => lit0t0_777 i
  | 10 => lit0t0_778 i
  | 11 => lit0t0_779 i
  | 12 => lit0t0_780 i
  | 13 => lit0t0_781 i
  | 14 => lit0t0_782 i
  | 15 => lit0t0_783 i
  | 16 => lit0t0_784 i
  | 17 => lit0t0_785 i
  | 18 => lit0t0_786 i
  | 19 => lit0t0_787 i
  | 20 => lit0t0_788 i
  | 21 => lit0t0_789 i
  | 22 => lit0t0_790 i
  | 23 => lit0t0_791 i
  | 24 => lit0t0_792 i
  | 25 => lit0t0_793 i
  | 26 => lit0t0_794 i
  | 27 => lit0t0_795 i
  | 28 => lit0t0_796 i
  | 29 => lit0t0_797 i
  | 30 => lit0t0_798 i
  | 31 => lit0t0_799 i
  | 32 => lit0t0_800 i
  | 33 => lit0t0_801 i
  | 34 => lit0t0_802 i
  | 35 => lit0t0_803 i
  | 36 => lit0t0_804 i
  | 37 => lit0t0_805 i
  | 38 => lit0t0_806 i
  | 39 => lit0t0_807 i
  | 40 => lit0t0_808 i
  | 41 => lit0t0_809 i
  | 42 => lit0t0_810 i
  | 43 => lit0t0_811 i
  | 44 => lit0t0_812 i
  | 45 => lit0t0_813 i
  | 46 => lit0t0_814 i
  | 47 => lit0t0_815 i
  | 48 => lit0t0_816 i
  | 49 => lit0t0_817 i
  | 50 => lit0t0_818 i
  | 51 => lit0t0_819 i
  | 52 => lit0t0_820 i
  | 53 => lit0t0_821 i
  | 54 => lit0t0_822 i
  | 55 => lit0t0_823 i
  | 56 => lit0t0_824 i
  | 57 => lit0t0_825 i
  | 58 => lit0t0_826 i
  | 59 => lit0t0_827 i
  | 60 => lit0t0_828 i
  | 61 => lit0t0_829 i
  | 62 => lit0t0_830 i
  | 63 => lit0t0_831 i
  | 64 => lit0t0_832 i
  | 65 => lit0t0_833 i
  | 66 => lit0t0_834 i
  | 67 => lit0t0_835 i
  | 68 => lit0t0_836 i
  | 69 => lit0t0_837 i
  | 70 => lit0t0_838 i
  | 71 => lit0t0_839 i
  | 72 => lit0t0_840 i
  | 73 => lit0t0_841 i
  | 74 => lit0t0_842 i
  | 75 => lit0t0_843 i
  | 76 => lit0t0_844 i
  | 77 => lit0t0_845 i
  | 78 => lit0t0_846 i
  | 79 => lit0t0_847 i
  | 80 => lit0t0_848 i
  | 81 => lit0t0_849 i
  | 82 => lit0t0_850 i
  | 83 => lit0t0_851 i
  | 84 => lit0t0_852 i
  | 85 => lit0t0_853 i
  | 86 => lit0t0_854 i
  | 87 => lit0t0_855 i
  | 88 => lit0t0_856 i
  | 89 => lit0t0_857 i
  | 90 => lit0t0_858 i
  | 91 => lit0t0_859 i
  | 92 => lit0t0_860 i
  | 93 => lit0t0_861 i
  | 94 => lit0t0_862 i
  | 95 => lit0t0_863 i
  | 96 => lit0t0_864 i
  | 97 => lit0t0_865 i
  | 98 => lit0t0_866 i
  | 99 => lit0t0_867 i
  | 100 => lit0t0_868 i
  | 101 => lit0t0_869 i
  | 102 => lit0t0_870 i
  | 103 => lit0t0_871 i
  | 104 => lit0t0_872 i
  | 105 => lit0t0_873 i
  | 106 => lit0t0_874 i
  | 107 => lit0t0_875 i
  | 108 => lit0t0_876 i
  | 109 => lit0t0_877 i
  | 110 => lit0t0_878 i
  | 111 => lit0t0_879 i
  | 112 => lit0t0_880 i
  | 113 => lit0t0_881 i
  | 114 => lit0t0_882 i
  | 115 => lit0t0_883 i
  | 116 => lit0t0_884 i
  | 117 => lit0t0_885 i
  | 118 => lit0t0_886 i
  | 119 => lit0t0_887 i
  | 120 => lit0t0_888 i
  | 121 => lit0t0_889 i
  | 122 => lit0t0_890 i
  | 123 => lit0t0_891 i
  | 124 => lit0t0_892 i
  | 125 => lit0t0_893 i
  | 126 => lit0t0_894 i
  | 127 => lit0t0_895 i
  | _ => 0#32

noncomputable abbrev lit0t1_7 (i : Nat) : BitVec 32 := match i / 128 % 128 with
  | 0 => lit0t0_896 i
  | 1 => lit0t0_897 i
  | 2 => lit0t0_898 i
  | 3 => lit0t0_899 i
  | 4 => lit0t0_900 i
  | 5 => lit0t0_901 i
  | 6 => lit0t0_902 i
  | 7 => lit0t0_903 i
  | 8 => lit0t0_904 i
  | 9 => lit0t0_905 i
  | 10 => lit0t0_906 i
  | 11 => lit0t0_907 i
  | 12 => lit0t0_908 i
  | 13 => lit0t0_909 i
  | 14 => lit0t0_910 i
  | 15 => lit0t0_911 i
  | 16 => lit0t0_912 i
  | 17 => lit0t0_913 i
  | 18 => lit0t0_914 i
  | 19 => lit0t0_915 i
  | 20 => lit0t0_916 i
  | 21 => lit0t0_917 i
  | 22 => lit0t0_918 i
  | 23 => lit0t0_919 i
  | 24 => lit0t0_920 i
  | 25 => lit0t0_921 i
  | 26 => lit0t0_922 i
  | 27 => lit0t0_923 i
  | 28 => lit0t0_924 i
  | 29 => lit0t0_925 i
  | 30 => lit0t0_926 i
  | 31 => lit0t0_927 i
  | 32 => lit0t0_928 i
  | 33 => lit0t0_929 i
  | 34 => lit0t0_930 i
  | 35 => lit0t0_931 i
  | 36 => lit0t0_932 i
  | 37 => lit0t0_933 i
  | 38 => lit0t0_934 i
  | 39 => lit0t0_935 i
  | 40 => lit0t0_936 i
  | 41 => lit0t0_937 i
  | 42 => lit0t0_938 i
  | 43 => lit0t0_939 i
  | 44 => lit0t0_940 i
  | 45 => lit0t0_941 i
  | 46 => lit0t0_942 i
  | 47 => lit0t0_943 i
  | 48 => lit0t0_944 i
  | 49 => lit0t0_945 i
  | 50 => lit0t0_946 i
  | 51 => lit0t0_947 i
  | 52 => lit0t0_948 i
  | 53 => lit0t0_949 i
  | 54 => lit0t0_950 i
  | 55 => lit0t0_951 i
  | 56 => lit0t0_952 i
  | 57 => lit0t0_953 i
  | 58 => lit0t0_954 i
  | 59 => lit0t0_955 i
  | 60 => lit0t0_956 i
  | 61 => lit0t0_957 i
  | 62 => lit0t0_958 i
  | 63 => lit0t0_959 i
  | _ => 0#32

noncomputable abbrev lit0t (i : Nat) : BitVec 32 := match i / 16384 with
  | 0 => lit0t1_0 i
  | 1 => lit0t1_1 i
  | 2 => lit0t1_2 i
  | 3 => lit0t1_3 i
  | 4 => lit0t1_4 i
  | 5 => lit0t1_5 i
  | 6 => lit0t1_6 i
  | 7 => lit0t1_7 i
  | _ => 0#32

noncomputable abbrev lit0 : Fin 122880 → BitVec 32 := fun ⟨i, _⟩ => lit0t i

def fn_take {F : FTy → Type} [FloatOps F] (arg0 : FVec F S4096x4096 .f32) (arg1 : IVec S30 32) : FVec F S30x4096 .f32 :=
  let v0 : IVec S30x1 32 := broadcastInDim S30x1 ![0] bcast_S30_S30x1_0 arg1
  let v1 : FVec F S30x4096 .f32 := (fun x i => Host.gather gather_S4096x4096_S30x1_S30x4096_1_0_n_n_0_1_14096 x i) arg0 v0
  v1

def fn_where {F : FTy → Type} [FloatOps F] (arg0 : IVec S30x4096 1) (arg1 : FVec F S30x4096 .f32) (arg2 : FVec F S_ .f32) : FVec F S30x4096 .f32 :=
  let v0 : FVec F S_ .f32 := id arg2
  let v1 : FVec F S30x4096 .f32 := broadcastInDim S30x4096 ![] bcast_S_S30x4096 v0
  let v2 : FVec F S30x4096 .f32 := select arg0 arg1 v1
  v2

def fn_part1 {F : FTy → Type} [FloatOps F] (main_v0 : FVec F S30x4096 .f32) (main_v1 : FVec F S30x4096 .f32) (main_v7 : IVec S30x4096 1) (main_v10 : FVec F S30x1 .f32) (main_v15 : IVec S30 1) (main_v16 : FVec F S30x4096 .f32) : IVec S30 1 × IVec S30x4096 1 × IVec S30x4096 1 × IVec S30x4096 1 × IVec S30x4096 1 :=
  let main_cst_5 : FVec F S_ .f32 := constant S_ .f32 0x7F800000#32
  let main_v17 : FVec F S30x4096 .f32 := broadcastInDim S30x4096 ![] bcast_S_S30x4096 main_cst_5
  let main_v18 : IVec S30x4096 1 := cmpf .olt main_v16 main_v17
  let main_v19 : FVec F S30x4096 .f32 := Host.absf main_v1
  let main_cst_6 : FVec F S_ .f32 := constant S_ .f32 0x7F800000#32
  let main_v20 : FVec F S30x4096 .f32 := broadcastInDim S30x4096 ![] bcast_S_S30x4096 main_cst_6
  let main_v21 : IVec S30x4096 1 := cmpf .olt main_v19 main_v20
  let main_cst_7 : FVec F S_ .f32 := constant S_ .f32 0xFF800000#32
  let main_v22 : FVec F S30 .f32 := (fun x v => Host.reduce FloatOps.maximumf x v reducesTo_S30x4096_S30_d1 h_S_) main_v0 main_cst_7
  let main_v23 : FVec F S30x1 .f32 := broadcastInDim S30x1 ![0] bcast_S30_S30x1_0 main_v22
  let main_cst_8 : FVec F S_ .f32 := constant S_ .f32 0x41A00000#32
  let main_v24 : FVec F S30x1 .f32 := broadcastInDim S30x1 ![] bcast_S_S30x1 main_cst_8
  let main_v25 : FVec F S30x1 .f32 := subf main_v23 main_v24
  let main_v26 : FVec F S30x4096 .f32 := broadcastInDim S30x4096 ![0, 1] bcast_S30x1_S30x4096_0_1 main_v25
  let main_v27 : IVec S30x4096 1 := cmpf .oge main_v0 main_v26
  let main_v28 : IVec S30x4096 1 := noti main_v7
  let main_v29 : FVec F S30x4096 .f32 := broadcastInDim S30x4096 ![0, 1] bcast_S30x1_S30x4096_0_1 main_v10
  let main_v30 : IVec S30x4096 1 := cmpf .oeq main_v0 main_v29
  let main_v31 : IVec S30x4096 1 := ori main_v28 main_v30
  (main_v15, main_v18, main_v21, main_v27, main_v31)

def fn {F : FTy → Type} [FloatOps F] (main_arg0 : FVec F S2x4096x4096 .f32) (main_arg1 : FVec F S4096x4096 .f32) (main_arg2 : IVec S30 32) (main_arg3 : FVec F S30x4096 .f32) (main_arg4 : FVec F S4096 .f32) (main_arg5 : FVec F S_ .f32) (main_arg6 : FVec F S_ .f32) (main_arg7 : FVec F S_ .f32) : IVec S30 1 × IVec S30x4096 1 × IVec S30x4096 1 × IVec S30x4096 1 × IVec S30x4096 1 :=
  let main_cst : FVec F S30x4096 .f32 := fun i => FloatOps.ofBits .f32 (lit0 (S30x4096.rowMajor i))
  let main_v0 : FVec F S30x4096 .f32 := fn_take (F := F) main_arg1 main_arg2
  let main_v1 : FVec F S30x4096 .f32 := addf main_v0 main_cst
  let main_cst_0 : FVec F S_ .f32 := constant S_ .f32 0xFF800000#32
  let main_v2 : FVec F S30 .f32 := (fun x v => Host.reduce FloatOps.maximumf x v reducesTo_S30x4096_S30_d1 h_S_) main_v1 main_cst_0
  let main_v3 : FVec F S30x1 .f32 := broadcastInDim S30x1 ![0] bcast_S30_S30x1_0 main_v2
  let main_cst_1 : FVec F S_ .f32 := constant S_ .f32 0x358637BD#32
  let main_v4 : FVec F S30x1 .f32 := broadcastInDim S30x1 ![] bcast_S_S30x1 main_cst_1
  let main_v5 : FVec F S30x1 .f32 := subf main_v3 main_v4
  let main_v6 : FVec F S30x4096 .f32 := broadcastInDim S30x4096 ![0, 1] bcast_S30x1_S30x4096_0_1 main_v5
  let main_v7 : IVec S30x4096 1 := cmpf .ogt main_v1 main_v6
  let main_cst_2 : FVec F S_ .f32 := constant S_ .f32 0xFF800000#32
  let main_v8 : FVec F S30x4096 .f32 := fn_where (F := F) main_v7 main_v0 main_cst_2
  let main_cst_3 : FVec F S_ .f32 := constant S_ .f32 0xFF800000#32
  let main_v9 : FVec F S30 .f32 := (fun x v => Host.reduce FloatOps.maximumf x v reducesTo_S30x4096_S30_d1 h_S_) main_v8 main_cst_3
  let main_v10 : FVec F S30x1 .f32 := broadcastInDim S30x1 ![0] bcast_S30_S30x1_0 main_v9
  let main_c : IVec S_ 32 := constantI S_ 32 0#32
  let main_v11 : IVec S30 32 := broadcastInDim S30 ![] bcast_S_S30 main_c
  let main_v12 : IVec S30 1 := cmpi .sge main_arg2 main_v11
  let main_c_4 : IVec S_ 32 := constantI S_ 32 4096#32
  let main_v13 : IVec S30 32 := broadcastInDim S30 ![] bcast_S_S30 main_c_4
  let main_v14 : IVec S30 1 := cmpi .slt main_arg2 main_v13
  let main_v15 : IVec S30 1 := andi main_v12 main_v14
  let main_v16 : FVec F S30x4096 .f32 := Host.absf main_arg3
  fn_part1 (F := F) main_v0 main_v1 main_v7 main_v10 main_v15 main_v16
-- ==== Pre_positions_in_range.lean ====
abbrev S2x4096x4096 : Shape := ⟨3, ![2, 4096, 4096]⟩
abbrev S4096x4096 : Shape := ⟨2, ![4096, 4096]⟩
abbrev S30 : Shape := ⟨1, ![30]⟩
abbrev S30x4096 : Shape := ⟨2, ![30, 4096]⟩
abbrev S4096 : Shape := ⟨1, ![4096]⟩
abbrev S_ : Shape := ⟨0, ![]⟩

class Facts : Prop where
  bcast_S_S30 : S_.BroadcastsInDim S30 (![] : Fin 0 → Fin S30.rank)

variable [Facts]

def fn {F : FTy → Type} [FloatOps F] (main_arg0 : FVec F S2x4096x4096 .f32) (main_arg1 : FVec F S4096x4096 .f32) (main_arg2 : IVec S30 32) (main_arg3 : FVec F S30x4096 .f32) (main_arg4 : FVec F S4096 .f32) (main_arg5 : FVec F S_ .f32) (main_arg6 : FVec F S_ .f32) (main_arg7 : FVec F S_ .f32) : IVec S30 1 :=
  let main_c : IVec S_ 32 := constantI S_ 32 0#32
  let main_v0 : IVec S30 32 := broadcastInDim S30 ![] bcast_S_S30 main_c
  let main_v1 : IVec S30 1 := cmpi .sge main_arg2 main_v0
  let main_c_0 : IVec S_ 32 := constantI S_ 32 4096#32
  let main_v2 : IVec S30 32 := broadcastInDim S30 ![] bcast_S_S30 main_c_0
  let main_v3 : IVec S30 1 := cmpi .slt main_arg2 main_v2
  let main_v4 : IVec S30 1 := andi main_v1 main_v3
  main_v4
-- ==== KernelIdeal.lean ====
abbrev S2x4096x4096 : Shape := ⟨3, ![2, 4096, 4096]⟩
abbrev S4096x4096 : Shape := ⟨2, ![4096, 4096]⟩
abbrev S30 : Shape := ⟨1, ![30]⟩
abbrev S30x4096 : Shape := ⟨2, ![30, 4096]⟩
abbrev S4096 : Shape := ⟨1, ![4096]⟩
abbrev S_ : Shape := ⟨0, ![]⟩
abbrev S1 : Shape := ⟨1, ![1]⟩
abbrev S1x4096 : Shape := ⟨2, ![1, 4096]⟩
abbrev S8 : Shape := ⟨1, ![8]⟩
abbrev S30x1 : Shape := ⟨2, ![30, 1]⟩
abbrev S1x30x1 : Shape := ⟨3, ![1, 30, 1]⟩
abbrev S1x1x1 : Shape := ⟨3, ![1, 1, 1]⟩
abbrev S1x512 : Shape := ⟨2, ![1, 512]⟩
abbrev S1x1x512 : Shape := ⟨3, ![1, 1, 512]⟩
abbrev S8192x4096 : Shape := ⟨2, ![8192, 4096]⟩
abbrev S4096x512 : Shape := ⟨2, ![4096, 512]⟩

abbrev nBuf : Space → Nat
  | .hbm => 16
  | .vmem => 11
  | .smem => 4
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S30, .i32⟩
  | .hbm, ⟨3, _⟩ => ⟨S30x4096, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S30x4096, .f32⟩
  | .hbm, ⟨9, _⟩ => ⟨S1, .f32⟩
  | .hbm, ⟨10, _⟩ => ⟨S1x4096, .f32⟩
  | .hbm, ⟨11, _⟩ => ⟨S1x4096, .f32⟩
  | .hbm, ⟨12, _⟩ => ⟨S8, .i32⟩
  | .hbm, ⟨13, _⟩ => ⟨S8192x4096, .f32⟩
  | .hbm, ⟨14, _⟩ => ⟨S8192x4096, .f32⟩
  | .hbm, ⟨15, _⟩ => ⟨S2x4096x4096, .f32⟩
  | .local _ .vmem, ⟨0, _⟩ => ⟨S30x4096, .f32⟩
  | .local _ .vmem, ⟨1, _⟩ => ⟨S30x4096, .f32⟩
  | .local _ .vmem, ⟨2, _⟩ => ⟨S1x4096, .f32⟩
  | .local _ .vmem, ⟨3, _⟩ => ⟨S1x4096, .f32⟩
  | .local _ .vmem, ⟨4, _⟩ => ⟨S30x4096, .f32⟩
  | .local _ .vmem, ⟨5, _⟩ => ⟨S4096x512, .f32⟩
  | .local _ .vmem, ⟨6, _⟩ => ⟨S4096x512, .f32⟩
  | .local _ .vmem, ⟨7, _⟩ => ⟨S1x512, .f32⟩
  | .local _ .vmem, ⟨8, _⟩ => ⟨S1x512, .f32⟩
  | .local _ .vmem, ⟨9, _⟩ => ⟨S4096x512, .f32⟩
  | .local _ .vmem, ⟨10, _⟩ => ⟨S4096x512, .f32⟩
  | .local _ .smem, ⟨0, _⟩ => ⟨S30, .i32⟩
  | .local _ .smem, ⟨1, _⟩ => ⟨S1, .f32⟩
  | .local _ .smem, ⟨2, _⟩ => ⟨S8, .i32⟩
  | .local _ .smem, ⟨3, _⟩ => ⟨S8, .i32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v5 : Ref sig .tc := ⟨.hbm, 14, rfl⟩
abbrev main_v6 : Ref sig .tc := ⟨.hbm, 15, rfl⟩
abbrev main_v4 : Ref sig .tc := ⟨.smem, 3, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_stg0_0 : Ref sig .tc := ⟨.smem, 0, rfl⟩
abbrev cc0_stg1_0 : Ref sig .tc := ⟨.smem, 1, rfl⟩
abbrev cc0_stg6_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := .none

def k0_off1 (v0 : BitVec 32) : Fin 2 → Nat :=
  let c0_i32_1 : BitVec 32 := 0#32
  ![v0.toNat, 0]

def k0_chk1 (v0 : BitVec 32) : Prop :=
  (∀ a, (k0_off1 v0) a + S1x4096.size a ≤ S4096x4096.size a)
theorem k0_off1_inb : ∀ (v0 : BitVec 32) (k0_hw1 : k0_chk1 v0), ∀ a, (k0_off1 v0) a + S1x4096.size a ≤ S4096x4096.size a := fun v0 k0_hw1 => k0_hw1

def k0_off2 (v3 : BitVec 32) : Fin 2 → Nat :=
  let c0_i32_3 : BitVec 32 := 0#32
  ![v3.toNat, 0]

def k0_chk2 (v3 : BitVec 32) : Prop :=
  (∀ a, (k0_off2 v3) a + S1x4096.size a ≤ S4096x4096.size a)
theorem k0_off2_inb : ∀ (v3 : BitVec 32) (k0_hw2 : k0_chk2 v3), ∀ a, (k0_off2 v3) a + S1x4096.size a ≤ S4096x4096.size a := fun v3 k0_hw2 => k0_hw2

def k0_off3 (v6 : BitVec 32) : Fin 2 → Nat :=
  let c0_i32_5 : BitVec 32 := 0#32
  ![v6.toNat, 0]

def k0_chk3 (v6 : BitVec 32) : Prop :=
  (∀ a, (k0_off3 v6) a + S1x4096.size a ≤ S4096x4096.size a)
theorem k0_off3_inb : ∀ (v6 : BitVec 32) (k0_hw3 : k0_chk3 v6), ∀ a, (k0_off3 v6) a + S1x4096.size a ≤ S4096x4096.size a := fun v6 k0_hw3 => k0_hw3

def k0_off4 (v9 : BitVec 32) : Fin 2 → Nat :=
  let c0_i32_7 : BitVec 32 := 0#32
  ![v9.toNat, 0]

def k0_chk4 (v9 : BitVec 32) : Prop :=
  (∀ a, (k0_off4 v9) a + S1x4096.size a ≤ S4096x4096.size a)
theorem k0_off4_inb : ∀ (v9 : BitVec 32) (k0_hw4 : k0_chk4 v9), ∀ a, (k0_off4 v9) a + S1x4096.size a ≤ S4096x4096.size a := fun v9 k0_hw4 => k0_hw4

def k0_off5 (v12 : BitVec 32) : Fin 2 → Nat :=
  let c0_i32_9 : BitVec 32 := 0#32
  ![v12.toNat, 0]

def k0_chk5 (v12 : BitVec 32) : Prop :=
  (∀ a, (k0_off5 v12) a + S1x4096.size a ≤ S4096x4096.size a)
theorem k0_off5_inb : ∀ (v12 : BitVec 32) (k0_hw5 : k0_chk5 v12), ∀ a, (k0_off5 v12) a + S1x4096.size a ≤ S4096x4096.size a := fun v12 k0_hw5 => k0_hw5

def k0_off6 (v15 : BitVec 32) : Fin 2 → Nat :=
  let c0_i32_11 : BitVec 32 := 0#32
  ![v15.toNat, 0]

def k0_chk6 (v15 : BitVec 32) : Prop :=
  (∀ a, (k0_off6 v15) a + S1x4096.size a ≤ S4096x4096.size a)
theorem k0_off6_inb : ∀ (v15 : BitVec 32) (k0_hw6 : k0_chk6 v15), ∀ a, (k0_off6 v15) a + S1x4096.size a ≤ S4096x4096.size a := fun v15 k0_hw6 => k0_hw6

def k0_off7 (v18 : BitVec 32) : Fin 2 → Nat :=
  let c0_i32_13 : BitVec 32 := 0#32
  ![v18.toNat, 0]

def k0_chk7 (v18 : BitVec 32) : Prop :=
  (∀ a, (k0_off7 v18) a + S1x4096.size a ≤ S4096x4096.size a)
theorem k0_off7_inb : ∀ (v18 : BitVec 32) (k0_hw7 : k0_chk7 v18), ∀ a, (k0_off7 v18) a + S1x4096.size a ≤ S4096x4096.size a := fun v18 k0_hw7 => k0_hw7

def k0_off8 (v21 : BitVec 32) : Fin 2 → Nat :=
  let c0_i32_15 : BitVec 32 := 0#32
  ![v21.toNat, 0]

def k0_chk8 (v21 : BitVec 32) : Prop :=
  (∀ a, (k0_off8 v21) a + S1x4096.size a ≤ S4096x4096.size a)
theorem k0_off8_inb : ∀ (v21 : BitVec 32) (k0_hw8 : k0_chk8 v21), ∀ a, (k0_off8 v21) a + S1x4096.size a ≤ S4096x4096.size a := fun v21 k0_hw8 => k0_hw8

def k0_off9 (v24 : BitVec 32) : Fin 2 → Nat :=
  let c0_i32_17 : BitVec 32 := 0#32
  ![v24.toNat, 0]

def k0_chk9 (v24 : BitVec 32) : Prop :=
  (∀ a, (k0_off9 v24) a + S1x4096.size a ≤ S4096x4096.size a)
theorem k0_off9_inb : ∀ (v24 : BitVec 32) (k0_hw9 : k0_chk9 v24), ∀ a, (k0_off9 v24) a + S1x4096.size a ≤ S4096x4096.size a := fun v24 k0_hw9 => k0_hw9

def k0_off10 (v27 : BitVec 32) : Fin 2 → Nat :=
  let c0_i32_19 : BitVec 32 := 0#32
  ![v27.toNat, 0]

def k0_chk10 (v27 : BitVec 32) : Prop :=
  (∀ a, (k0_off10 v27) a + S1x4096.size a ≤ S4096x4096.size a)
theorem k0_off10_inb : ∀ (v27 : BitVec 32) (k0_hw10 : k0_chk10 v27), ∀ a, (k0_off10 v27) a + S1x4096.size a ≤ S4096x4096.size a := fun v27 k0_hw10 => k0_hw10

def k0_off11 (v30 : BitVec 32) : Fin 2 → Nat :=
  let c0_i32_21 : BitVec 32 := 0#32
  ![v30.toNat, 0]

def k0_chk11 (v30 : BitVec 32) : Prop :=
  (∀ a, (k0_off11 v30) a + S1x4096.size a ≤ S4096x4096.size a)
theorem k0_off11_inb : ∀ (v30 : BitVec 32) (k0_hw11 : k0_chk11 v30), ∀ a, (k0_off11 v30) a + S1x4096.size a ≤ S4096x4096.size a := fun v30 k0_hw11 => k0_hw11

def k0_off12 (v33 : BitVec 32) : Fin 2 → Nat :=
  let c0_i32_23 : BitVec 32 := 0#32
  ![v33.toNat, 0]

def k0_chk12 (v33 : BitVec 32) : Prop :=
  (∀ a, (k0_off12 v33) a + S1x4096.size a ≤ S4096x4096.size a)
theorem k0_off12_inb : ∀ (v33 : BitVec 32) (k0_hw12 : k0_chk12 v33), ∀ a, (k0_off12 v33) a + S1x4096.size a ≤ S4096x4096.size a := fun v33 k0_hw12 => k0_hw12

def k0_off13 (v36 : BitVec 32) : Fin 2 → Nat :=
  let c0_i32_25 : BitVec 32 := 0#32
  ![v36.toNat, 0]

def k0_chk13 (v36 : BitVec 32) : Prop :=
  (∀ a, (k0_off13 v36) a + S1x4096.size a ≤ S4096x4096.size a)
theorem k0_off13_inb : ∀ (v36 : BitVec 32) (k0_hw13 : k0_chk13 v36), ∀ a, (k0_off13 v36) a + S1x4096.size a ≤ S4096x4096.size a := fun v36 k0_hw13 => k0_hw13

def k0_off14 (v39 : BitVec 32) : Fin 2 → Nat :=
  let c0_i32_27 : BitVec 32 := 0#32
  ![v39.toNat, 0]

def k0_chk14 (v39 : BitVec 32) : Prop :=
  (∀ a, (k0_off14 v39) a + S1x4096.size a ≤ S4096x4096.size a)
theorem k0_off14_inb : ∀ (v39 : BitVec 32) (k0_hw14 : k0_chk14 v39), ∀ a, (k0_off14 v39) a + S1x4096.size a ≤ S4096x4096.size a := fun v39 k0_hw14 => k0_hw14

def k0_off15 (v42 : BitVec 32) : Fin 2 → Nat :=
  let c0_i32_29 : BitVec 32 := 0#32
  ![v42.toNat, 0]

def k0_chk15 (v42 : BitVec 32) : Prop :=
  (∀ a, (k0_off15 v42) a + S1x4096.size a ≤ S4096x4096.size a)
theorem k0_off15_inb : ∀ (v42 : BitVec 32) (k0_hw15 : k0_chk15 v42), ∀ a, (k0_off15 v42) a + S1x4096.size a ≤ S4096x4096.size a := fun v42 k0_hw15 => k0_hw15

def k0_off16 (v45 : BitVec 32) : Fin 2 → Nat :=
  let c0_i32_31 : BitVec 32 := 0#32
  ![v45.toNat, 0]

def k0_chk16 (v45 : BitVec 32) : Prop :=
  (∀ a, (k0_off16 v45) a + S1x4096.size a ≤ S4096x4096.size a)
theorem k0_off16_inb : ∀ (v45 : BitVec 32) (k0_hw16 : k0_chk16 v45), ∀ a, (k0_off16 v45) a + S1x4096.size a ≤ S4096x4096.size a := fun v45 k0_hw16 => k0_hw16

def k0_off17 (v48 : BitVec 32) : Fin 2 → Nat :=
  let c0_i32_33 : BitVec 32 := 0#32
  ![v48.toNat, 0]

def k0_chk17 (v48 : BitVec 32) : Prop :=
  (∀ a, (k0_off17 v48) a + S1x4096.size a ≤ S4096x4096.size a)
theorem k0_off17_inb : ∀ (v48 : BitVec 32) (k0_hw17 : k0_chk17 v48), ∀ a, (k0_off17 v48) a + S1x4096.size a ≤ S4096x4096.size a := fun v48 k0_hw17 => k0_hw17

def k0_off18 (v51 : BitVec 32) : Fin 2 → Nat :=
  let c0_i32_35 : BitVec 32 := 0#32
  ![v51.toNat, 0]

def k0_chk18 (v51 : BitVec 32) : Prop :=
  (∀ a, (k0_off18 v51) a + S1x4096.size a ≤ S4096x4096.size a)
theorem k0_off18_inb : ∀ (v51 : BitVec 32) (k0_hw18 : k0_chk18 v51), ∀ a, (k0_off18 v51) a + S1x4096.size a ≤ S4096x4096.size a := fun v51 k0_hw18 => k0_hw18

def k0_off19 (v54 : BitVec 32) : Fin 2 → Nat :=
  let c0_i32_37 : BitVec 32 := 0#32
  ![v54.toNat, 0]

def k0_chk19 (v54 : BitVec 32) : Prop :=
  (∀ a, (k0_off19 v54) a + S1x4096.size a ≤ S4096x4096.size a)
theorem k0_off19_inb : ∀ (v54 : BitVec 32) (k0_hw19 : k0_chk19 v54), ∀ a, (k0_off19 v54) a + S1x4096.size a ≤ S4096x4096.size a := fun v54 k0_hw19 => k0_hw19

def k0_off20 (v57 : BitVec 32) : Fin 2 → Nat :=
  let c0_i32_39 : BitVec 32 := 0#32
  ![v57.toNat, 0]

def k0_chk20 (v57 : BitVec 32) : Prop :=
  (∀ a, (k0_off20 v57) a + S1x4096.size a ≤ S4096x4096.size a)
theorem k0_off20_inb : ∀ (v57 : BitVec 32) (k0_hw20 : k0_chk20 v57), ∀ a, (k0_off20 v57) a + S1x4096.size a ≤ S4096x4096.size a := fun v57 k0_hw20 => k0_hw20

def k0_off21 (v60 : BitVec 32) : Fin 2 → Nat :=
  let c0_i32_41 : BitVec 32 := 0#32
  ![v60.toNat, 0]

def k0_chk21 (v60 : BitVec 32) : Prop :=
  (∀ a, (k0_off21 v60) a + S1x4096.size a ≤ S4096x4096.size a)
theorem k0_off21_inb : ∀ (v60 : BitVec 32) (k0_hw21 : k0_chk21 v60), ∀ a, (k0_off21 v60) a + S1x4096.size a ≤ S4096x4096.size a := fun v60 k0_hw21 => k0_hw21

def k0_off22 (v63 : BitVec 32) : Fin 2 → Nat :=
  let c0_i32_43 : BitVec 32 := 0#32
  ![v63.toNat, 0]

def k0_chk22 (v63 : BitVec 32) : Prop :=
  (∀ a, (k0_off22 v63) a + S1x4096.size a ≤ S4096x4096.size a)
theorem k0_off22_inb : ∀ (v63 : BitVec 32) (k0_hw22 : k0_chk22 v63), ∀ a, (k0_off22 v63) a + S1x4096.size a ≤ S4096x4096.size a := fun v63 k0_hw22 => k0_hw22

def k0_off23 (v66 : BitVec 32) : Fin 2 → Nat :=
  let c0_i32_45 : BitVec 32 := 0#32
  ![v66.toNat, 0]

def k0_chk23 (v66 : BitVec 32) : Prop :=
  (∀ a, (k0_off23 v66) a + S1x4096.size a ≤ S4096x4096.size a)
theorem k0_off23_inb : ∀ (v66 : BitVec 32) (k0_hw23 : k0_chk23 v66), ∀ a, (k0_off23 v66) a + S1x4096.size a ≤ S4096x4096.size a := fun v66 k0_hw23 => k0_hw23

def k0_off24 (v69 : BitVec 32) : Fin 2 → Nat :=
  let c0_i32_47 : BitVec 32 := 0#32
  ![v69.toNat, 0]

def k0_chk24 (v69 : BitVec 32) : Prop :=
  (∀ a, (k0_off24 v69) a + S1x4096.size a ≤ S4096x4096.size a)
theorem k0_off24_inb : ∀ (v69 : BitVec 32) (k0_hw24 : k0_chk24 v69), ∀ a, (k0_off24 v69) a + S1x4096.size a ≤ S4096x4096.size a := fun v69 k0_hw24 => k0_hw24

def k0_off25 (v72 : BitVec 32) : Fin 2 → Nat :=
  let c0_i32_49 : BitVec 32 := 0#32
  ![v72.toNat, 0]

def k0_chk25 (v72 : BitVec 32) : Prop :=
  (∀ a, (k0_off25 v72) a + S1x4096.size a ≤ S4096x4096.size a)
theorem k0_off25_inb : ∀ (v72 : BitVec 32) (k0_hw25 : k0_chk25 v72), ∀ a, (k0_off25 v72) a + S1x4096.size a ≤ S4096x4096.size a := fun v72 k0_hw25 => k0_hw25

def k0_off26 (v75 : BitVec 32) : Fin 2 → Nat :=
  let c0_i32_51 : BitVec 32 := 0#32
  ![v75.toNat, 0]

def k0_chk26 (v75 : BitVec 32) : Prop :=
  (∀ a, (k0_off26 v75) a + S1x4096.size a ≤ S4096x4096.size a)
theorem k0_off26_inb : ∀ (v75 : BitVec 32) (k0_hw26 : k0_chk26 v75), ∀ a, (k0_off26 v75) a + S1x4096.size a ≤ S4096x4096.size a := fun v75 k0_hw26 => k0_hw26

def k0_off27 (v78 : BitVec 32) : Fin 2 → Nat :=
  let c0_i32_53 : BitVec 32 := 0#32
  ![v78.toNat, 0]

def k0_chk27 (v78 : BitVec 32) : Prop :=
  (∀ a, (k0_off27 v78) a + S1x4096.size a ≤ S4096x4096.size a)
theorem k0_off27_inb : ∀ (v78 : BitVec 32) (k0_hw27 : k0_chk27 v78), ∀ a, (k0_off27 v78) a + S1x4096.size a ≤ S4096x4096.size a := fun v78 k0_hw27 => k0_hw27

def k0_off28 (v81 : BitVec 32) : Fin 2 → Nat :=
  let c0_i32_55 : BitVec 32 := 0#32
  ![v81.toNat, 0]

def k0_chk28 (v81 : BitVec 32) : Prop :=
  (∀ a, (k0_off28 v81) a + S1x4096.size a ≤ S4096x4096.size a)
theorem k0_off28_inb : ∀ (v81 : BitVec 32) (k0_hw28 : k0_chk28 v81), ∀ a, (k0_off28 v81) a + S1x4096.size a ≤ S4096x4096.size a := fun v81 k0_hw28 => k0_hw28

def k0_off29 (v84 : BitVec 32) : Fin 2 → Nat :=
  let c0_i32_57 : BitVec 32 := 0#32
  ![v84.toNat, 0]

def k0_chk29 (v84 : BitVec 32) : Prop :=
  (∀ a, (k0_off29 v84) a + S1x4096.size a ≤ S4096x4096.size a)
theorem k0_off29_inb : ∀ (v84 : BitVec 32) (k0_hw29 : k0_chk29 v84), ∀ a, (k0_off29 v84) a + S1x4096.size a ≤ S4096x4096.size a := fun v84 k0_hw29 => k0_hw29

def k0_off30 (v87 : BitVec 32) : Fin 2 → Nat :=
  let c0_i32_59 : BitVec 32 := 0#32
  ![v87.toNat, 0]

def k0_chk30 (v87 : BitVec 32) : Prop :=
  (∀ a, (k0_off30 v87) a + S1x4096.size a ≤ S4096x4096.size a)
theorem k0_off30_inb : ∀ (v87 : BitVec 32) (k0_hw30 : k0_chk30 v87), ∀ a, (k0_off30 v87) a + S1x4096.size a ≤ S4096x4096.size a := fun v87 k0_hw30 => k0_hw30

def k0_off31 (v90 : BitVec 32) : Fin 2 → Nat :=
  let c0_i32_63 : BitVec 32 := 0#32
  ![v90.toNat, 0]

def k0_chk31 (v90 : BitVec 32) : Prop :=
  (∀ a, (k0_off31 v90) a + S1x4096.size a ≤ S4096x4096.size a)
theorem k0_off31_inb : ∀ (v90 : BitVec 32) (k0_hw31 : k0_chk31 v90), ∀ a, (k0_off31 v90) a + S1x4096.size a ≤ S4096x4096.size a := fun v90 k0_hw31 => k0_hw31

def k0_off32 (v93 : BitVec 32) : Fin 2 → Nat :=
  let c0_i32_67 : BitVec 32 := 0#32
  ![v93.toNat, 0]

def k0_chk32 (v93 : BitVec 32) : Prop :=
  (∀ a, (k0_off32 v93) a + S1x4096.size a ≤ S4096x4096.size a)
theorem k0_off32_inb : ∀ (v93 : BitVec 32) (k0_hw32 : k0_chk32 v93), ∀ a, (k0_off32 v93) a + S1x4096.size a ≤ S4096x4096.size a := fun v93 k0_hw32 => k0_hw32

def k0_off33 (v96 : BitVec 32) : Fin 2 → Nat :=
  let c0_i32_71 : BitVec 32 := 0#32
  ![v96.toNat, 0]

def k0_chk33 (v96 : BitVec 32) : Prop :=
  (∀ a, (k0_off33 v96) a + S1x4096.size a ≤ S4096x4096.size a)
theorem k0_off33_inb : ∀ (v96 : BitVec 32) (k0_hw33 : k0_chk33 v96), ∀ a, (k0_off33 v96) a + S1x4096.size a ≤ S4096x4096.size a := fun v96 k0_hw33 => k0_hw33

def k0_off34 (v99 : BitVec 32) : Fin 2 → Nat :=
  let c0_i32_75 : BitVec 32 := 0#32
  ![v99.toNat, 0]

def k0_chk34 (v99 : BitVec 32) : Prop :=
  (∀ a, (k0_off34 v99) a + S1x4096.size a ≤ S4096x4096.size a)
theorem k0_off34_inb : ∀ (v99 : BitVec 32) (k0_hw34 : k0_chk34 v99), ∀ a, (k0_off34 v99) a + S1x4096.size a ≤ S4096x4096.size a := fun v99 k0_hw34 => k0_hw34

def k0_off35 (v102 : BitVec 32) : Fin 2 → Nat :=
  let c0_i32_79 : BitVec 32 := 0#32
  ![v102.toNat, 0]

def k0_chk35 (v102 : BitVec 32) : Prop :=
  (∀ a, (k0_off35 v102) a + S1x4096.size a ≤ S4096x4096.size a)
theorem k0_off35_inb : ∀ (v102 : BitVec 32) (k0_hw35 : k0_chk35 v102), ∀ a, (k0_off35 v102) a + S1x4096.size a ≤ S4096x4096.size a := fun v102 k0_hw35 => k0_hw35

def k0_off36 (v105 : BitVec 32) : Fin 2 → Nat :=
  let c0_i32_83 : BitVec 32 := 0#32
  ![v105.toNat, 0]

def k0_chk36 (v105 : BitVec 32) : Prop :=
  (∀ a, (k0_off36 v105) a + S1x4096.size a ≤ S4096x4096.size a)
theorem k0_off36_inb : ∀ (v105 : BitVec 32) (k0_hw36 : k0_chk36 v105), ∀ a, (k0_off36 v105) a + S1x4096.size a ≤ S4096x4096.size a := fun v105 k0_hw36 => k0_hw36

def k0_off37 (v108 : BitVec 32) : Fin 2 → Nat :=
  let c0_i32_87 : BitVec 32 := 0#32
  ![v108.toNat, 0]

def k0_chk37 (v108 : BitVec 32) : Prop :=
  (∀ a, (k0_off37 v108) a + S1x4096.size a ≤ S4096x4096.size a)
theorem k0_off37_inb : ∀ (v108 : BitVec 32) (k0_hw37 : k0_chk37 v108), ∀ a, (k0_off37 v108) a + S1x4096.size a ≤ S4096x4096.size a := fun v108 k0_hw37 => k0_hw37

def k0_off38 (v111 : BitVec 32) : Fin 2 → Nat :=
  let c0_i32_91 : BitVec 32 := 0#32
  ![v111.toNat, 0]

def k0_chk38 (v111 : BitVec 32) : Prop :=
  (∀ a, (k0_off38 v111) a + S1x4096.size a ≤ S4096x4096.size a)
theorem k0_off38_inb : ∀ (v111 : BitVec 32) (k0_hw38 : k0_chk38 v111), ∀ a, (k0_off38 v111) a + S1x4096.size a ≤ S4096x4096.size a := fun v111 k0_hw38 => k0_hw38

def k0_off39 (v114 : BitVec 32) : Fin 2 → Nat :=
  let c0_i32_95 : BitVec 32 := 0#32
  ![v114.toNat, 0]

def k0_chk39 (v114 : BitVec 32) : Prop :=
  (∀ a, (k0_off39 v114) a + S1x4096.size a ≤ S4096x4096.size a)
theorem k0_off39_inb : ∀ (v114 : BitVec 32) (k0_hw39 : k0_chk39 v114), ∀ a, (k0_off39 v114) a + S1x4096.size a ≤ S4096x4096.size a := fun v114 k0_hw39 => k0_hw39

def k0_off40 (v117 : BitVec 32) : Fin 2 → Nat :=
  let c0_i32_99 : BitVec 32 := 0#32
  ![v117.toNat, 0]

def k0_chk40 (v117 : BitVec 32) : Prop :=
  (∀ a, (k0_off40 v117) a + S1x4096.size a ≤ S4096x4096.size a)
theorem k0_off40_inb : ∀ (v117 : BitVec 32) (k0_hw40 : k0_chk40 v117), ∀ a, (k0_off40 v117) a + S1x4096.size a ≤ S4096x4096.size a := fun v117 k0_hw40 => k0_hw40

def k0_off41 (v120 : BitVec 32) : Fin 2 → Nat :=
  let c0_i32_103 : BitVec 32 := 0#32
  ![v120.toNat, 0]

def k0_chk41 (v120 : BitVec 32) : Prop :=
  (∀ a, (k0_off41 v120) a + S1x4096.size a ≤ S4096x4096.size a)
theorem k0_off41_inb : ∀ (v120 : BitVec 32) (k0_hw41 : k0_chk41 v120), ∀ a, (k0_off41 v120) a + S1x4096.size a ≤ S4096x4096.size a := fun v120 k0_hw41 => k0_hw41

def k0_off42 (v123 : BitVec 32) : Fin 2 → Nat :=
  let c0_i32_107 : BitVec 32 := 0#32
  ![v123.toNat, 0]

def k0_chk42 (v123 : BitVec 32) : Prop :=
  (∀ a, (k0_off42 v123) a + S1x4096.size a ≤ S4096x4096.size a)
theorem k0_off42_inb : ∀ (v123 : BitVec 32) (k0_hw42 : k0_chk42 v123), ∀ a, (k0_off42 v123) a + S1x4096.size a ≤ S4096x4096.size a := fun v123 k0_hw42 => k0_hw42

def k0_off43 (v126 : BitVec 32) : Fin 2 → Nat :=
  let c0_i32_111 : BitVec 32 := 0#32
  ![v126.toNat, 0]

def k0_chk43 (v126 : BitVec 32) : Prop :=
  (∀ a, (k0_off43 v126) a + S1x4096.size a ≤ S4096x4096.size a)
theorem k0_off43_inb : ∀ (v126 : BitVec 32) (k0_hw43 : k0_chk43 v126), ∀ a, (k0_off43 v126) a + S1x4096.size a ≤ S4096x4096.size a := fun v126 k0_hw43 => k0_hw43

def k0_off44 (v129 : BitVec 32) : Fin 2 → Nat :=
  let c0_i32_115 : BitVec 32 := 0#32
  ![v129.toNat, 0]

def k0_chk44 (v129 : BitVec 32) : Prop :=
  (∀ a, (k0_off44 v129) a + S1x4096.size a ≤ S4096x4096.size a)
theorem k0_off44_inb : ∀ (v129 : BitVec 32) (k0_hw44 : k0_chk44 v129), ∀ a, (k0_off44 v129) a + S1x4096.size a ≤ S4096x4096.size a := fun v129 k0_hw44 => k0_hw44

def k0_off45 (v132 : BitVec 32) : Fin 2 → Nat :=
  let c0_i32_119 : BitVec 32 := 0#32
  ![v132.toNat, 0]

def k0_chk45 (v132 : BitVec 32) : Prop :=
  (∀ a, (k0_off45 v132) a + S1x4096.size a ≤ S4096x4096.size a)
theorem k0_off45_inb : ∀ (v132 : BitVec 32) (k0_hw45 : k0_chk45 v132), ∀ a, (k0_off45 v132) a + S1x4096.size a ≤ S4096x4096.size a := fun v132 k0_hw45 => k0_hw45

def k0_off46 (v135 : BitVec 32) : Fin 2 → Nat :=
  let c0_i32_123 : BitVec 32 := 0#32
  ![v135.toNat, 0]

def k0_chk46 (v135 : BitVec 32) : Prop :=
  (∀ a, (k0_off46 v135) a + S1x4096.size a ≤ S4096x4096.size a)
theorem k0_off46_inb : ∀ (v135 : BitVec 32) (k0_hw46 : k0_chk46 v135), ∀ a, (k0_off46 v135) a + S1x4096.size a ≤ S4096x4096.size a := fun v135 k0_hw46 => k0_hw46

def k0_off47 (v138 : BitVec 32) : Fin 2 → Nat :=
  let c0_i32_127 : BitVec 32 := 0#32
  ![v138.toNat, 0]

def k0_chk47 (v138 : BitVec 32) : Prop :=
  (∀ a, (k0_off47 v138) a + S1x4096.size a ≤ S4096x4096.size a)
theorem k0_off47_inb : ∀ (v138 : BitVec 32) (k0_hw47 : k0_chk47 v138), ∀ a, (k0_off47 v138) a + S1x4096.size a ≤ S4096x4096.size a := fun v138 k0_hw47 => k0_hw47

def k0_off48 (v141 : BitVec 32) : Fin 2 → Nat :=
  let c0_i32_131 : BitVec 32 := 0#32
  ![v141.toNat, 0]

def k0_chk48 (v141 : BitVec 32) : Prop :=
  (∀ a, (k0_off48 v141) a + S1x4096.size a ≤ S4096x4096.size a)
theorem k0_off48_inb : ∀ (v141 : BitVec 32) (k0_hw48 : k0_chk48 v141), ∀ a, (k0_off48 v141) a + S1x4096.size a ≤ S4096x4096.size a := fun v141 k0_hw48 => k0_hw48

def k0_off49 (v144 : BitVec 32) : Fin 2 → Nat :=
  let c0_i32_135 : BitVec 32 := 0#32
  ![v144.toNat, 0]

def k0_chk49 (v144 : BitVec 32) : Prop :=
  (∀ a, (k0_off49 v144) a + S1x4096.size a ≤ S4096x4096.size a)
theorem k0_off49_inb : ∀ (v144 : BitVec 32) (k0_hw49 : k0_chk49 v144), ∀ a, (k0_off49 v144) a + S1x4096.size a ≤ S4096x4096.size a := fun v144 k0_hw49 => k0_hw49

def k0_off50 (v147 : BitVec 32) : Fin 2 → Nat :=
  let c0_i32_139 : BitVec 32 := 0#32
  ![v147.toNat, 0]

def k0_chk50 (v147 : BitVec 32) : Prop :=
  (∀ a, (k0_off50 v147) a + S1x4096.size a ≤ S4096x4096.size a)
theorem k0_off50_inb : ∀ (v147 : BitVec 32) (k0_hw50 : k0_chk50 v147), ∀ a, (k0_off50 v147) a + S1x4096.size a ≤ S4096x4096.size a := fun v147 k0_hw50 => k0_hw50

def k0_off51 (v150 : BitVec 32) : Fin 2 → Nat :=
  let c0_i32_143 : BitVec 32 := 0#32
  ![v150.toNat, 0]

def k0_chk51 (v150 : BitVec 32) : Prop :=
  (∀ a, (k0_off51 v150) a + S1x4096.size a ≤ S4096x4096.size a)
theorem k0_off51_inb : ∀ (v150 : BitVec 32) (k0_hw51 : k0_chk51 v150), ∀ a, (k0_off51 v150) a + S1x4096.size a ≤ S4096x4096.size a := fun v150 k0_hw51 => k0_hw51

def k0_off52 (v153 : BitVec 32) : Fin 2 → Nat :=
  let c0_i32_147 : BitVec 32 := 0#32
  ![v153.toNat, 0]

def k0_chk52 (v153 : BitVec 32) : Prop :=
  (∀ a, (k0_off52 v153) a + S1x4096.size a ≤ S4096x4096.size a)
theorem k0_off52_inb : ∀ (v153 : BitVec 32) (k0_hw52 : k0_chk52 v153), ∀ a, (k0_off52 v153) a + S1x4096.size a ≤ S4096x4096.size a := fun v153 k0_hw52 => k0_hw52

def k0_off53 (v156 : BitVec 32) : Fin 2 → Nat :=
  let c0_i32_151 : BitVec 32 := 0#32
  ![v156.toNat, 0]

def k0_chk53 (v156 : BitVec 32) : Prop :=
  (∀ a, (k0_off53 v156) a + S1x4096.size a ≤ S4096x4096.size a)
theorem k0_off53_inb : ∀ (v156 : BitVec 32) (k0_hw53 : k0_chk53 v156), ∀ a, (k0_off53 v156) a + S1x4096.size a ≤ S4096x4096.size a := fun v156 k0_hw53 => k0_hw53

def k0_off54 (v159 : BitVec 32) : Fin 2 → Nat :=
  let c0_i32_155 : BitVec 32 := 0#32
  ![v159.toNat, 0]

def k0_chk54 (v159 : BitVec 32) : Prop :=
  (∀ a, (k0_off54 v159) a + S1x4096.size a ≤ S4096x4096.size a)
theorem k0_off54_inb : ∀ (v159 : BitVec 32) (k0_hw54 : k0_chk54 v159), ∀ a, (k0_off54 v159) a + S1x4096.size a ≤ S4096x4096.size a := fun v159 k0_hw54 => k0_hw54

def k0_off55 (v162 : BitVec 32) : Fin 2 → Nat :=
  let c0_i32_159 : BitVec 32 := 0#32
  ![v162.toNat, 0]

def k0_chk55 (v162 : BitVec 32) : Prop :=
  (∀ a, (k0_off55 v162) a + S1x4096.size a ≤ S4096x4096.size a)
theorem k0_off55_inb : ∀ (v162 : BitVec 32) (k0_hw55 : k0_chk55 v162), ∀ a, (k0_off55 v162) a + S1x4096.size a ≤ S4096x4096.size a := fun v162 k0_hw55 => k0_hw55

def k0_off56 (v165 : BitVec 32) : Fin 2 → Nat :=
  let c0_i32_163 : BitVec 32 := 0#32
  ![v165.toNat, 0]

def k0_chk56 (v165 : BitVec 32) : Prop :=
  (∀ a, (k0_off56 v165) a + S1x4096.size a ≤ S4096x4096.size a)
theorem k0_off56_inb : ∀ (v165 : BitVec 32) (k0_hw56 : k0_chk56 v165), ∀ a, (k0_off56 v165) a + S1x4096.size a ≤ S4096x4096.size a := fun v165 k0_hw56 => k0_hw56

def k0_off57 (v168 : BitVec 32) : Fin 2 → Nat :=
  let c0_i32_167 : BitVec 32 := 0#32
  ![v168.toNat, 0]

def k0_chk57 (v168 : BitVec 32) : Prop :=
  (∀ a, (k0_off57 v168) a + S1x4096.size a ≤ S4096x4096.size a)
theorem k0_off57_inb : ∀ (v168 : BitVec 32) (k0_hw57 : k0_chk57 v168), ∀ a, (k0_off57 v168) a + S1x4096.size a ≤ S4096x4096.size a := fun v168 k0_hw57 => k0_hw57

def k0_off58 (v171 : BitVec 32) : Fin 2 → Nat :=
  let c0_i32_171 : BitVec 32 := 0#32
  ![v171.toNat, 0]

def k0_chk58 (v171 : BitVec 32) : Prop :=
  (∀ a, (k0_off58 v171) a + S1x4096.size a ≤ S4096x4096.size a)
theorem k0_off58_inb : ∀ (v171 : BitVec 32) (k0_hw58 : k0_chk58 v171), ∀ a, (k0_off58 v171) a + S1x4096.size a ≤ S4096x4096.size a := fun v171 k0_hw58 => k0_hw58

def k0_off59 (v174 : BitVec 32) : Fin 2 → Nat :=
  let c0_i32_175 : BitVec 32 := 0#32
  ![v174.toNat, 0]

def k0_chk59 (v174 : BitVec 32) : Prop :=
  (∀ a, (k0_off59 v174) a + S1x4096.size a ≤ S4096x4096.size a)
theorem k0_off59_inb : ∀ (v174 : BitVec 32) (k0_hw59 : k0_chk59 v174), ∀ a, (k0_off59 v174) a + S1x4096.size a ≤ S4096x4096.size a := fun v174 k0_hw59 => k0_hw59

def k0_off60 (v177 : BitVec 32) : Fin 2 → Nat :=
  let c0_i32_179 : BitVec 32 := 0#32
  ![v177.toNat, 0]

def k0_chk60 (v177 : BitVec 32) : Prop :=
  (∀ a, (k0_off60 v177) a + S1x4096.size a ≤ S4096x4096.size a)
theorem k0_off60_inb : ∀ (v177 : BitVec 32) (k0_hw60 : k0_chk60 v177), ∀ a, (k0_off60 v177) a + S1x4096.size a ≤ S4096x4096.size a := fun v177 k0_hw60 => k0_hw60

abbrev stage0_0 : Fin 1 → Memref sig .tc .smem S30 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S30x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S8 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨2, ![2, 8], ![false, false]⟩

abbrev pre1 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def cc1_transform_0 (k1_off1_inb : ∀ i : grid1.Coords, ∀ a, (k1_off1 i) a + S1.size a ≤ S8.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k1_off1_inb i)) numel1_S1
  let c0_i32 : BitVec 32 := 0#32
  ![arg0.toNat, v1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S2x4096x4096 : Shape := ⟨3, ![2, 4096, 4096]⟩
abbrev S4096x4096 : Shape := ⟨2, ![4096, 4096]⟩
abbrev S30 : Shape := ⟨1, ![30]⟩
abbrev S30x4096 : Shape := ⟨2, ![30, 4096]⟩
abbrev S4096 : Shape := ⟨1, ![4096]⟩
abbrev S_ : Shape := ⟨0, ![]⟩
abbrev S4096x1 : Shape := ⟨2, ![4096, 1]⟩
abbrev S30x1 : Shape := ⟨2, ![30, 1]⟩
abbrev S1 : Shape := ⟨1, ![1]⟩
abbrev S1x1 : Shape := ⟨2, ![1, 1]⟩
abbrev S30x2 : Shape := ⟨2, ![30, 2]⟩
abbrev S1x4096 : Shape := ⟨2, ![1, 4096]⟩
abbrev S1x1x4096 : Shape := ⟨3, ![1, 1, 4096]⟩

abbrev nBuf : Space → Nat
  | .hbm => 113
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S30, .i32⟩
  | .hbm, ⟨3, _⟩ => ⟨S30x4096, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S30x4096, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S30, .i32⟩
  | .hbm, ⟨25, _⟩ => ⟨S30, .i1⟩
  | .hbm, ⟨26, _⟩ => ⟨S_, .i32⟩
  | .hbm, ⟨27, _⟩ => ⟨S30, .i32⟩
  | .hbm, ⟨28, _⟩ => ⟨S30, .i32⟩
  | .hbm, ⟨29, _⟩ => ⟨S30, .i32⟩
  | .hbm, ⟨30, _⟩ => ⟨S30x1, .i32⟩
  | .hbm, ⟨31, _⟩ => ⟨S1, .i32⟩
  | .hbm, ⟨32, _⟩ => ⟨S_, .i32⟩
  | .hbm, ⟨33, _⟩ => ⟨S30x1, .i32⟩
  | .hbm, ⟨34, _⟩ => ⟨S30x1, .i1⟩
  | .hbm, ⟨35, _⟩ => ⟨S1x1, .i32⟩
  | .hbm, ⟨36, _⟩ => ⟨S30x1, .i32⟩
  | .hbm, ⟨37, _⟩ => ⟨S30x1, .i1⟩
  | .hbm, ⟨38, _⟩ => ⟨S30x1, .i1⟩
  | .hbm, ⟨39, _⟩ => ⟨S_, .i1⟩
  | .hbm, ⟨40, _⟩ => ⟨S30, .i1⟩
  | .hbm, ⟨41, _⟩ => ⟨S30x4096, .f32⟩
  | .hbm, ⟨42, _⟩ => ⟨S30x4096, .i1⟩
  | .hbm, ⟨43, _⟩ => ⟨S_, .f32⟩
  | .hbm, ⟨44, _⟩ => ⟨S30x4096, .f32⟩
  | .hbm, ⟨45, _⟩ => ⟨S30x4096, .f32⟩
  | .hbm, ⟨46, _⟩ => ⟨S_, .f32⟩
  | .hbm, ⟨47, _⟩ => ⟨S30x4096, .f32⟩
  | .hbm, ⟨48, _⟩ => ⟨S30x4096, .f32⟩
  | .hbm, ⟨49, _⟩ => ⟨S30x4096, .f32⟩
  | .hbm, ⟨50, _⟩ => ⟨S30x4096, .f32⟩
  | .hbm, ⟨51, _⟩ => ⟨S30x4096, .i32⟩
  | .hbm, ⟨52, _⟩ => ⟨S_, .f32⟩
  | .hbm, ⟨53, _⟩ => ⟨S_, .i32⟩
  | .hbm, ⟨54, _⟩ => ⟨S30, .f32⟩
  | .hbm, ⟨55, _⟩ => ⟨S30, .i32⟩
  | .hbm, ⟨56, _⟩ => ⟨S30, .i32⟩
  | .hbm, ⟨57, _⟩ => ⟨S_, .i32⟩
  | .hbm, ⟨58, _⟩ => ⟨S30, .i32⟩
  | .hbm, ⟨59, _⟩ => ⟨S30, .i1⟩
  | .hbm, ⟨60, _⟩ => ⟨S_, .i32⟩
  | .hbm, ⟨61, _⟩ => ⟨S30, .i32⟩
  | .hbm, ⟨62, _⟩ => ⟨S30, .i32⟩
  | .hbm, ⟨63, _⟩ => ⟨S30, .i32⟩
  | .hbm, ⟨64, _⟩ => ⟨S_, .i32⟩
  | .hbm, ⟨65, _⟩ => ⟨S30, .i32⟩
  | .hbm, ⟨66, _⟩ => ⟨S30, .i1⟩
  | .hbm, ⟨67, _⟩ => ⟨S_, .i32⟩
  | .hbm, ⟨68, _⟩ => ⟨S30, .i32⟩
  | .hbm, ⟨69, _⟩ => ⟨S30, .i32⟩
  | .hbm, ⟨70, _⟩ => ⟨S30, .i32⟩
  | .hbm, ⟨71, _⟩ => ⟨S30x1, .i32⟩
  | .hbm, ⟨72, _⟩ => ⟨S30x1, .i32⟩
  | .hbm, ⟨73, _⟩ => ⟨S30x2, .i32⟩
  | .hbm, ⟨74, _⟩ => ⟨S_, .f32⟩
  | .hbm, ⟨75, _⟩ => ⟨S30, .f32⟩
  | .hbm, ⟨76, _⟩ => ⟨S30x4096, .f32⟩
  | .hbm, ⟨77, _⟩ => ⟨S30x4096, .f32⟩
  | .hbm, ⟨78, _⟩ => ⟨S_, .f32⟩
  | .hbm, ⟨79, _⟩ => ⟨S30, .f32⟩
  | .hbm, ⟨80, _⟩ => ⟨S30, .f32⟩
  | .hbm, ⟨81, _⟩ => ⟨S30, .i32⟩
  | .hbm, ⟨82, _⟩ => ⟨S_, .f32⟩
  | .hbm, ⟨83, _⟩ => ⟨S_, .i32⟩
  | .hbm, ⟨84, _⟩ => ⟨S_, .f32⟩
  | .hbm, ⟨85, _⟩ => ⟨S_, .i32⟩
  | .hbm, ⟨86, _⟩ => ⟨S_, .i32⟩
  | .hbm, ⟨87, _⟩ => ⟨S_, .i1⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S1, .f32⟩
  | .hbm, ⟨92, _⟩ => ⟨S_, .f32⟩
  | .hbm, ⟨93, _⟩ => ⟨S_, .i1⟩
  | .hbm, ⟨94, _⟩ => ⟨S_, .i32⟩
  | .hbm, ⟨95, _⟩ => ⟨S_, .i1⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i1⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S1x4096, .f32⟩
  | .hbm, ⟨108, _⟩ => ⟨S4096, .f32⟩
  | .hbm, ⟨109, _⟩ => ⟨S4096, .f32⟩
  | .hbm, ⟨110, _⟩ => ⟨S1x1x4096, .f32⟩
  | .hbm, ⟨111, _⟩ => ⟨S2x4096x4096, .f32⟩
  | .hbm, ⟨112, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v11 : Ref sig .tc := ⟨.hbm, 45, rfl⟩
abbrev main_cst_3 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_call1_v0 : Ref sig .tc := ⟨.hbm, 51, rfl⟩
abbrev main_call1_cst : Ref sig .tc := ⟨.hbm, 52, rfl⟩
abbrev main_call1_c : Ref sig .tc := ⟨.hbm, 53, rfl⟩
abbrev main_call1_v1_0 : Ref sig .tc := ⟨.hbm, 54, rfl⟩
abbrev main_v16 : Ref sig .tc := ⟨.hbm, 55, rfl⟩
abbrev main_v17 : Ref sig .tc := ⟨.hbm, 56, rfl⟩
abbrev main_c : Ref sig .tc := ⟨.hbm, 57, rfl⟩
abbrev main_v18 : Ref sig .tc := ⟨.hbm, 58, rfl⟩
abbrev main_v19 : Ref sig .tc := ⟨.hbm, 59, rfl⟩
abbrev main_c_4 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_c_5 : Ref sig .tc := ⟨.hbm, 64, rfl⟩
abbrev main_v23 : Ref sig .tc := ⟨.hbm, 65, rfl⟩
abbrev main_v24 : Ref sig .tc := ⟨.hbm, 66, rfl⟩
abbrev main_c_6 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_7 : Ref sig .tc := ⟨.hbm, 74, rfl⟩
abbrev main_v31 : Ref sig .tc := ⟨.hbm, 75, rfl⟩
abbrev main_v32 : Ref sig .tc := ⟨.hbm, 76, rfl⟩
abbrev main_call2_v0 : Ref sig .tc := ⟨.hbm, 77, rfl⟩
abbrev main_call2_cst : Ref sig .tc := ⟨.hbm, 78, rfl⟩
abbrev main_call2_v1 : Ref sig .tc := ⟨.hbm, 79, rfl⟩
abbrev main_v33 : Ref sig .tc := ⟨.hbm, 80, rfl⟩
abbrev main_call3_v0 : Ref sig .tc := ⟨.hbm, 81, rfl⟩
abbrev main_call3_cst : Ref sig .tc := ⟨.hbm, 82, rfl⟩
abbrev main_call3_c : Ref sig .tc := ⟨.hbm, 83, rfl⟩
abbrev main_call3_v1_0 : Ref sig .tc := ⟨.hbm, 84, rfl⟩
abbrev main_v34 : Ref sig .tc := ⟨.hbm, 85, rfl⟩
abbrev main_c_8 : Ref sig .tc := ⟨.hbm, 86, rfl⟩
abbrev main_v35 : Ref sig .tc := ⟨.hbm, 87, rfl⟩
abbrev main_c_9 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_c_10 : Ref sig .tc := ⟨.hbm, 94, rfl⟩
abbrev main_v41 : Ref sig .tc := ⟨.hbm, 95, rfl⟩
abbrev main_c_11 : Ref sig .tc := ⟨.hbm, 96, rfl⟩
abbrev main_v42 : Ref sig .tc := ⟨.hbm, 97, rfl⟩
abbrev main_v43 : Ref sig .tc := ⟨.hbm, 98, rfl⟩
abbrev main_c_12 : Ref sig .tc := ⟨.hbm, 99, rfl⟩
abbrev main_c_13 : Ref sig .tc := ⟨.hbm, 100, rfl⟩
abbrev main_v44 : Ref sig .tc := ⟨.hbm, 101, rfl⟩
abbrev main_c_14 : Ref sig .tc := ⟨.hbm, 102, rfl⟩
abbrev main_c_15 : Ref sig .tc := ⟨.hbm, 103, rfl⟩
abbrev main_v45 : Ref sig .tc := ⟨.hbm, 104, rfl⟩
abbrev main_c_16 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩

abbrev nD : Nat := 1
abbrev τ : Topo := Topo.v7x

variable {F : FTy → Type} [FloatOps F]
-- ==== Proof.Pre.lean ====
/-
  The two printed preconditions: the shape relations they state, proved, and what each says of the positions: every one of
  the thirty names a row of the trails.
-/
module

public import proofs.«01_k».proof.Pre_positions_in_range
public import proofs.«01_k».proof.Pre_draw_is_decided
public import proofs.«01_k».proof.Proof.Gen.ReferenceIdeal

@[expose] public section

set_option maxRecDepth 16384

noncomputable section

namespace Cert.Pre_positions_in_range

open Idealize.ShloMosaic

instance facts : Facts where
  bcast_S_S30 := by decide

theorem andi_ofBool (p q : Bool) : IntOp.andi (BitVec.ofBool p) (BitVec.ofBool q) = BitVec.ofBool (p && q) := by
  cases p <;> cases q <;> decide
theorem ofBool_one (p : Bool) : (BitVec.ofBool p = 1#1) ↔ p = true := by cases p <;> decide

/-- A word between 0 and 4096, both compared as signed, is a natural number below 4096. -/
theorem word_lt {w : BitVec 32} (h : IntOp.andi (IntOp.cmpi .sge w 0#32) (IntOp.cmpi .slt w 4096#32) = 1#1) : w.toNat < 4096 := by
  simp only [IntOp.cmpi, andi_ofBool, ofBool_one, Bool.and_eq_true] at h
  obtain ⟨hge, hlt⟩ := h
  simp only [BitVec.sle, BitVec.slt, decide_eq_true_eq, BitVec.toInt, BitVec.toNat_ofNat] at hge hlt
  omega

/-- The precondition on the positions says that each is below 4096. -/
theorem lt {F : FTy → Type} [FloatOps F] {a0 : FVec F S2x4096x4096 .f32} {a1 : FVec F S4096x4096 .f32} {a2 : IVec S30 32} {a3 : FVec F S30x4096 .f32}
    {a4 : FVec F S4096 .f32} {a5 a6 a7 : FVec F S_ .f32} (h : fn a0 a1 a2 a3 a4 a5 a6 a7 = fun _ => 1#1) (i : S30.Idx) : (a2 i).toNat < 4096 :=
  word_lt (congrFun h i)

end Cert.Pre_positions_in_range

namespace Cert.Pre_draw_is_decided

open Idealize.ShloMosaic

instance facts : Facts where
  bcast_S30_S30x1_0 := by decide
  reducesTo_S30x4096_S30_d1 := by decide
  h_S_ := by decide
  bcast_S_S30x1 := by decide
  bcast_S30x1_S30x4096_0_1 := by decide
  bcast_S_S30x4096 := by decide
  bcast_S_S30 := by decide
  gather_S4096x4096_S30x1_S30x4096_1_0_n_n_0_1_14096_wf := by decide

/-- So does its counterpart in the precondition on the draw. -/
theorem lt {F : FTy → Type} [FloatOps F] {a0 : FVec F S2x4096x4096 .f32} {a1 : FVec F S4096x4096 .f32} {a2 : IVec S30 32} {a3 : FVec F S30x4096 .f32}
    {a4 : FVec F S4096 .f32} {a5 a6 a7 : FVec F S_ .f32} (h : (fn a0 a1 a2 a3 a4 a5 a6 a7).1 = fun _ => 1#1) (i : S30.Idx) : (a2 i).toNat < 4096 :=
  Cert.Pre_positions_in_range.word_lt (congrFun h i)

end Cert.Pre_draw_is_decided

end
-- ==== Proof.MaskGather.lean ====
/-
  The mask kernel's body, run once. It starts thirty transfers on one DMA semaphore — row `i` of the scratch from the row
  of the trails that position `i` names —, waits for all thirty, and computes from the gathered rows, the noise, the paths,
  the best length and the best path the row of mask values and the table of columns.
-/
module

public import proofs.«01_k».proof.Proof.Gen.KernelIdeal.Skeleton
public import proofs.«01_k».proof.Proof.Gen.KernelIdeal.Points
public import Idealize.ShloMosaic.Lib.Pipeline.Frame
public import Idealize.ShloMosaic.Lib.Tactic
public import Idealize.ShloMosaic.Lib.Batch
public import Idealize.ShloMosaic.Lib.Transfers
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-- The scratch the rows are gathered into and the trails left in HBM, whole. -/
abbrev scM : Memref sig .tc .vmem S30x4096 .f32 := Memref.whole cc0_scratch0
abbrev hbM : Memref sig .tc .hbm S4096x4096 .f32 := Memref.whole main_arg1
/-- A memref's buffer on core `c` held whole at `f`. -/
abbrev wholePt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Row `i` of the scratch. -/
theorem row_inb (i : Fin 30) : ∀ a, (![i.val, 0] : Fin 2 → Nat) a + S1x4096.size a ≤ S30x4096.size a := by
  intro a; fin_cases a
  · show i.val + 1 ≤ 30; omega
  · show 0 + 4096 ≤ 4096; omega
abbrev dWin (i : Fin 30) : Memref sig .tc .vmem S1x4096 .f32 :=
  scM.slice (Rect.unit (s := S30x4096) ![i.val, 0] S1x4096.size (row_inb i)) (fun _ => rfl)

/-- Row `w` of the trails. -/
theorem src_inb {w : BitVec 32} (h : w.toNat < 4096) : ∀ a, (![w.toNat, 0] : Fin 2 → Nat) a + S1x4096.size a ≤ S4096x4096.size a := by
  intro a; fin_cases a
  · show w.toNat + 1 ≤ 4096; omega
  · show 0 + 4096 ≤ 4096; omega
abbrev sWin (w : BitVec 32) (h : w.toNat < 4096) : Memref sig .tc .hbm S1x4096 .f32 :=
  hbM.slice (Rect.unit (s := S4096x4096) ![w.toNat, 0] S1x4096.size (src_inb h)) (fun _ => rfl)

theorem pos_inb (i : Fin 30) : ∀ a, (![i.val] : Fin 1 → Nat) a + S1.size a ≤ S30.size a := by
  intro a; fin_cases a; show i.val + 1 ≤ 30; omega
/-- Position `i`, as the body reads it out of the staged positions. -/
abbrev posWord (c : Dev nD) (arg0 : Memref sig .tc .smem S30 .i32) (f : Buf (Elt F) (arg0.view.loc (c : Thread nD τ))) (i : Fin 30) : BitVec 32 :=
  View.readAt (Elt F) arg0.view (Rect.unit (s := S30) ![i.val] S1.size (pos_inb i)).toLoadRect f
    (Shape.Idx.first (numel1_S1.symm ▸ Nat.one_pos))

section Run

variable (c : Dev nD) (arg0 : Memref sig .tc .smem S30 .i32) (f0 : Buf (Elt F) (arg0.view.loc (c : Thread nD τ)))
  (hw : ∀ i, (posWord (F := F) c arg0 f0 i).toNat < 4096) (fh : Buf (Elt F) (hbM.view.loc (c : Thread nD τ)))

/-- The trails' row position `i` names. -/
abbrev sW (i : Fin 30) : Memref sig .tc .hbm S1x4096 .f32 := sWin (posWord (F := F) c arg0 f0 i) (hw i)

/-- Row `i` of the scratch, landed; and the row it was read from, lent at token `i`. -/
abbrev landed (i : Fin 30) : Buf (Elt F) ((dWin i).view.loc (c : Thread nD τ)) :=
  (dWin i).view.writes (Elt F) (dWin i).view.junk [⟨Rect.whole S1x4096, ReadAs.same.apply ((sW c arg0 f0 hw i).view.read (Elt F) fh)⟩]
abbrev srcPt (i : Fin 30) : sProp 𝕄 :=
  (sW c arg0 f0 hw i).view.loc (c : Thread nD τ) ↦[(sW c arg0 f0 hw i).view.set]{Transfers.shareTokN fullShare i.val} fh
abbrev dstPt (i : Fin 30) (g : Buf (Elt F) ((dWin i).view.loc (c : Thread nD τ))) : sProp 𝕄 :=
  (dWin i).view.loc (c : Thread nD τ) ↦[(dWin i).view.set]{fullShare} g
abbrev deliv (i : Fin 30) : sProp 𝕄 := iprop(dstPt c i (landed c arg0 f0 hw fh i) ∗ srcPt c arg0 f0 hw fh i)

/-- One row's credit. -/
abbrev N : ℕ := (dWin 0).view.amount (SemLoc.dma (sig := sig) cc0_scratch1.sem)

include hw in
/-- Every position the body reads names a row of the trails. -/
theorem word_inb (n : ℕ) (hn : ∀ a, (![n] : Fin 1 → Nat) a + S1.size a ≤ S30.size a) :
    ∀ a, (![(View.readAt (Elt F) arg0.view (Rect.unit (s := S30) ![n] S1.size hn).toLoadRect f0
      (Shape.Idx.first (numel1_S1.symm ▸ Nat.one_pos)) : BitVec 32).toNat, 0] : Fin 2 → Nat) a + S1x4096.size a ≤ S4096x4096.size a :=
  src_inb (hw ⟨n, by have := hn 0; have e : n + 1 ≤ 30 := this; omega⟩)

/-- Entry `(r, k)` of the trails. -/
def trIx (r k : Fin 4096) : S4096x4096.Idx := fun | ⟨0, _⟩ => r | ⟨1, _⟩ => k

/-- The rows gathered: row `i` of the scratch is the trails' row that position `i` names. -/
def gathered : Buf (Elt F) (scM.view.loc (c : Thread nD τ)) := fun (ix : S30x4096.Idx) =>
  (fh : S4096x4096.Idx → Elt F .f32) (trIx ⟨(posWord (F := F) c arg0 f0 (ix 0)).toNat, hw (ix 0)⟩ (ix 1))

/-- A family over the thirty rows, one by one. -/
theorem bigSep30 (P : Fin 30 → sProp 𝕄) : bigSep Finset.univ P
    = iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16 ∗ P 17 ∗ P 18 ∗ P 19 ∗ P 20 ∗ P 21 ∗ P 22 ∗ P 23 ∗ P 24 ∗ P 25 ∗ P 26 ∗ P 27 ∗ P 28 ∗ P 29) := by
  rw [BI.bigSep_eq_bigSepL_of_eq [0, 1, 2, 3, 4, 5, 6, 7, 8, 9, 10, 11, 12, 13, 14, 15, 16, 17, 18, 19, 20, 21, 22, 23, 24, 25, 26, 27, 28, 29] (by decide) (by decide)]; rfl

/-- The elements of row `i`, as elements of the scratch. -/
def rowSet (i : Fin 30) : Finset (Idx (scM.view.loc (c : Thread nD τ))) := (dWin i).view.set

theorem rows_disjoint (i j : Fin 30) (h : i ≠ j) : Disjoint (rowSet c i) (rowSet c j) :=
  View.disjoint_slice_of_sep _ _ _ (0 : Fin 2) rfl rfl (by
    show i.val + 1 ≤ j.val ∨ j.val + 1 ≤ i.val
    have : i.val ≠ j.val := fun e => h (Fin.ext e)
    omega)

theorem mem_row (i : Fin 30) (ix : S30x4096.Idx) : ix ∈ (rowSet c i : Finset S30x4096.Idx) ↔ (ix 0).val = i.val := by
  unfold rowSet; rw [show (dWin i).view.set = (Rect.unit (s := S30x4096) ![i.val, 0] S1x4096.size (row_inb i)).set from View.set_slice_whole _ _,
    Rect.mem_set_unit]
  constructor
  · intro h; have := h 0; have e : i.val ≤ (ix 0).val ∧ (ix 0).val < i.val + 1 := this; omega
  · intro h a; fin_cases a
    · show i.val ≤ (ix 0).val ∧ (ix 0).val < i.val + 1; omega
    · show 0 ≤ (ix 1).val ∧ (ix 1).val < 0 + 4096; have := (ix 1).isLt; have e : (ix 1).val < 4096 := this; omega

theorem rows_cover : Finset.univ.biUnion (rowSet c) = Finset.univ := by
  ext ix
  simp only [Finset.mem_biUnion, Finset.mem_univ, true_and, iff_true]
  exact ⟨(ix : S30x4096.Idx) 0, (mem_row c _ _).mpr rfl⟩

/-- The scratch held whole is held row by row. -/
theorem scratch_rows (f : Buf (Elt F) (scM.view.loc (c : Thread nD τ))) :
    wholePt c scM f = bigSep Finset.univ (fun i : Fin 30 => dstPt c i f) :=
  (Ring.pointsTo_blocks (ℓ := scM.view.loc (c : Thread nD τ)) (rowSet c) (rows_disjoint c) (rows_cover c) f :
    (scM.view.loc (c : Thread nD τ) ↦{fullShare} f : sProp 𝕄) = bigSep Finset.univ fun i => scM.view.loc (c : Thread nD τ) ↦[rowSet c i]{fullShare} f)

/-- The landed rows are the gathered array. -/
theorem landed_rows : bigSep Finset.univ (fun i : Fin 30 => dstPt c i (landed c arg0 f0 hw fh i)) = wholePt c scM (gathered c arg0 f0 hw fh) := by
  rw [scratch_rows]
  refine congrArg (bigSep Finset.univ) (funext fun i => ?_)
  refine pointsTo_congr fun ix hix => ?_
  obtain ⟨x, -, rfl⟩ := Finset.mem_map.mp hix
  unfold landed
  rw [← View.write_univ_eq_writes_whole]
  rw [View.write_emb_of_mem _ _ (Finset.mem_univ x)]
  have hx : (x 0).val = 0 := by have := (x 0).isLt; have e : (x 0).val < 1 := this; omega
  have h0 : (((dWin i).view.emb x : S30x4096.Idx) 0 : Fin 30) = i := Fin.ext (by
    show i.val + 1 * (x 0).val = i.val; omega)
  refine congrArg (fh : S4096x4096.Idx → Elt F .f32) (funext fun a => ?_)
  match a with
  | ⟨0, _⟩ =>
    refine Fin.ext ?_
    show (posWord (F := F) c arg0 f0 i).toNat + 1 * (x 0).val = (posWord (F := F) c arg0 f0 (((dWin i).view.emb x : S30x4096.Idx) 0)).toNat
    rw [h0]; omega
  | ⟨1, _⟩ => rfl

/-- The trails held whole are, per row of the scratch, the row its position names at that row's token and the rest of the
    trails at that token, beside what is left of the share. -/
theorem src_split : wholePt c hbM fh = iprop((hbM.view.loc (c : Thread nD τ) ↦{Transfers.shareDrop fullShare 30} fh)
    ∗ bigSep Finset.univ (fun i : Fin 30 => srcPt c arg0 f0 hw fh i)
    ∗ bigSep Finset.univ (fun i : Fin 30 => hbM.view.loc (c : Thread nD τ) ↦[Finset.univ \ (sW c arg0 f0 hw i).view.set]{Transfers.shareTokN fullShare i.val} fh)) := by
  rw [← bigSep_sep']
  have e := (Transfers.pointsTo_toks (Ix := Unit) (Name := ℕ) (U := Pipeline.UD sig nD τ) (Lvl := ℕ) (ℓ := hbM.view.loc (c : Thread nD τ)) (S := Finset.univ) (f := fh) fullShare 30)
  refine (BI.equiv_iff.mp ⟨e.1, e.2⟩).trans ?_
  congr 2
  funext i
  have e' := pointsTo_split_subset (Ix := Unit) (Name := ℕ) (U := Pipeline.UD sig nD τ) (Lvl := ℕ) (ℓ := hbM.view.loc (c : Thread nD τ)) (q := Transfers.shareTokN fullShare i.val) (f := fh) (Finset.subset_univ ((sW c arg0 f0 hw i).view.set))
  exact BI.equiv_iff.mp ⟨e'.1, e'.2⟩

end Run

end Cert.KernelIdeal.Hand

end
-- ==== Proof.MaskBody.lean ====
/-
  The mask kernel's body, run once. It starts thirty transfers on one DMA semaphore — row `i` of the scratch from the row
  of the trails that position `i` names —, waits for all thirty, and computes from the gathered rows, the noise, the paths,
  the best length and the best path the row of mask values and the table of columns.
-/
module

public import proofs.«01_k».proof.Proof.MaskGather
public import proofs.«01_k».proof.Proof.Gen.KernelIdeal.Points
public import Idealize.ShloMosaic.Lib.Pipeline.Frame
public import Idealize.ShloMosaic.Lib.Tactic
public import Idealize.ShloMosaic.Lib.Batch
public import Idealize.ShloMosaic.Lib.Transfers
public import Idealize.ShloMosaic.Lib.Ring
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-! ## What the body computes -/

theorem slices_blk (b : Fin 8) : S1x4096.Slices ![0, 512 * b.val] S1x512 := by
  refine ⟨rfl, fun a => ?_⟩
  match a with
  | ⟨0, _⟩ => show 0 + 1 ≤ 1; omega
  | ⟨1, _⟩ => show 512 * b.val + 512 ≤ 4096; omega

/-- Entry `i` of the thirty positions, and the only entry of a vector of one. -/
def ix30 (i : Fin 30) : S30.Idx := fun | ⟨0, _⟩ => i
def one0 : S1.Idx := fun | ⟨0, _⟩ => (0 : Fin 1)

/-- The rows the transfers gather: row `i` is the trails' row that position `i` names. -/
def rowsOf (pos : Vec F S30 .i32) (tr : S4096x4096.Idx → Elt F .f32) : Vec F S30x4096 .f32 := fun ix =>
  tr (trIx ⟨(pos (ix30 (ix 0)) : BitVec 32).toNat % 4096, Nat.mod_lt _ (by decide)⟩ (ix 1))

/-- The row of mask values. -/
def maskRow (rows noise paths : Vec F S30x4096 .f32) (blen : F .f32) (best : Vec F S1x4096 .f32) : FVec F S1x4096 .f32 :=
  k0_pay7 (k0_pay1 rows noise) paths (iota .tc S30x1 32 [0] iota_S30x1_d0_w32)
    (extractAt ![0, 0, 0] (k0_pay4 rows noise paths) inpos_S1x1x1_p0_0_0)
    (Scalar.cmpf .olt (k0_pay5 rows noise paths) blen) (k0_pay6 rows noise paths) best

/-- The greatest magnitude in block `b` of the mask row. -/
def blkMax (b : Fin 8) (row : FVec F S1x4096 .f32) : F .f32 :=
  extractAt ![0, 0, 0] (shapeCast S1x1x1 (multiReduction .maximumf [1, 2] S1
    (shapeCast S1x1x512 (absf (extractStridedSlice S1x512 ![0, 512 * b.val] row (slices_blk b))) shapeCasts_S1x512_S1x1x512)
    0xFF800000#32 reduces_S1x1x512_S1 (.inl rfl) rfl) shapeCasts_S1_S1x1x1) inpos_S1x1x1_p0_0_0

/-- Whether block `b` of the mask row has a nonzero. -/
def live (row : FVec F S1x4096 .f32) (b : Fin 8) : BitVec 1 :=
  Scalar.cmpf .ogt (blkMax b row) (Scalar.ofBits .f32 0x00000000#32)

/-- The first block with a nonzero, the last one where there is none. -/
def firstLive (row : FVec F S1x4096 .f32) : BitVec 32 :=
  Scalar.select (live row 0) 0#32 (Scalar.select (live row 1) 1#32 (Scalar.select (live row 2) 2#32 (Scalar.select (live row 3) 3#32
    (Scalar.select (live row 4) 4#32 (Scalar.select (live row 5) 5#32 (Scalar.select (live row 6) 6#32 (Scalar.select (live row 7) 7#32 7#32)))))))

/-- The column each block of `x` is read at: a block whose mask has a nonzero its own, another the first such block's. -/
def colTable (row : FVec F S1x4096 .f32) : Vec F S8 .i32 := fun ix =>
  Scalar.select (live row (ix 0)) (BitVec.ofNat 32 (ix 0).val) (firstLive row)

theorem select_lt {b : BitVec 1} {x y : BitVec 32} (hx : x.toNat < 8) (hy : y.toNat < 8) : (Scalar.select b x y).toNat < 8 := by
  unfold Scalar.select; split <;> assumption

/-- Every entry of the table names a column block. -/
theorem colTable_lt (row : FVec F S1x4096 .f32) (ix : S8.Idx) : (colTable row ix : BitVec 32).toNat < 8 := by
  have h : (ix 0).val < 8 := (ix 0).isLt
  refine select_lt (by rw [BitVec.toNat_ofNat]; omega) ?_
  unfold firstLive
  repeat' (refine select_lt (by decide) ?_)
  decide

/-! ## Whole memrefs -/

/-- A whole memref owned reading `X` is its buffer held whole at contents read as `X`. -/
theorem owns_wholePt (c : Dev nD) {sp : Space} {S : Shape} {e : EltTy} (M : Memref sig .tc sp S e) (h : M.IsWhole) (X : Vec F S e) :
    (owns (c : Thread nD τ) M fullShare X : sProp 𝕄) = iprop(∃ f : Buf (Elt F) (M.view.loc (c : Thread nD τ)), ⌜M.view.read (Elt F) f = X⌝ ∗ wholePt c M f) := by
  unfold owns; rw [h.set_eq_univ]

/-- A read of the whole of a buffer of the row shapes is what the buffer reads. -/
theorem readAt_full {sp : Space} {S : Shape} {e : EltTy} (c : Dev nD) (M : Memref sig .tc sp S e) {off : Fin S.rank → ℕ} (h0 : off = fun _ => 0)
    (hi : ∀ a, off a + S.size a ≤ S.size a) (f : Buf (Elt F) (M.view.loc (c : Thread nD τ))) :
    View.readAt (Elt F) M.view (Rect.unit (s := S) off S.size hi).toLoadRect f = M.view.read (Elt F) f := by
  subst h0
  funext x
  rw [View.readAt_apply]
  refine congrArg _ (funext fun a => Fin.ext ?_)
  show 0 + 1 * (x a).val = (x a).val
  omega

theorem posWord_eq (c : Dev nD) (arg0 : Memref sig .tc .smem S30 .i32) (f : Buf (Elt F) (arg0.view.loc (c : Thread nD τ))) (i : Fin 30) :
    posWord c arg0 f i = arg0.view.read (Elt F) f (ix30 i) := by
  unfold posWord
  rw [View.readAt_apply]
  refine congrArg _ (funext fun a => Fin.ext ?_)
  match a with
  | ⟨0, _⟩ => show i.val + 1 * 0 = i.val; omega

/-- A row written whole is what the buffer reads after it. -/
theorem read_writes_full {sp : Space} {S : Shape} {e : EltTy} (c : Dev nD) (M : Memref sig .tc sp S e) {off : Fin S.rank → ℕ} (h0 : off = fun _ => 0)
    (hi : ∀ a, off a + S.size a ≤ S.size a) (f : Buf (Elt F) (M.view.loc (c : Thread nD τ))) (X : S.Idx → Elt F e) :
    M.view.read (Elt F) (M.view.writes (Elt F) f [⟨Rect.unit (s := S) off S.size hi, X⟩]) = X := by
  subst h0
  funext y
  exact View.read_writes_cons_unit_of_mem M.view f hi X [] y y rfl (fun a => (Nat.zero_add _).symm)

theorem first_one (h : 0 < S1.numel) : Shape.Idx.first h = one0 := by
  funext a; refine Fin.ext ?_
  match a with
  | ⟨0, _⟩ =>
    have h1 : (Shape.Idx.first h (0 : Fin 1)).val < 1 := (Shape.Idx.first h (0 : Fin 1)).isLt
    show (Shape.Idx.first h (0 : Fin 1)).val = 0
    omega
theorem zero2 : (![0, 0] : Fin 2 → ℕ) = fun _ => 0 := by decide
theorem zero1 : (![0] : Fin 1 → ℕ) = fun _ => 0 := by decide
theorem inb_z_S30x4096 : ∀ a, (![0, 0] : Fin 2 → ℕ) a + S30x4096.size a ≤ S30x4096.size a := by decide
theorem inb_z_S1x4096 : ∀ a, (![0, 0] : Fin 2 → ℕ) a + S1x4096.size a ≤ S1x4096.size a := by decide
theorem inb_z_S1 : ∀ a, (![0] : Fin 1 → ℕ) a + S1.size a ≤ S1.size a := by decide
theorem inb_w (n : ℕ) (h : n < 8) : ∀ a, (![n] : Fin 1 → ℕ) a + S1.size a ≤ S8.size a := by
  intro a; fin_cases a; show n + 1 ≤ 8; omega

/-- Word `n` written alone on top of others: what is read at `n` is it, and elsewhere what was read before. -/
theorem read_word (c : Dev nD) (M : Memref sig .tc .smem S8 .i32) (f : Buf (Elt F) (M.view.loc (c : Thread nD τ))) (L) (n : ℕ)
    (h : ∀ a, (![n] : Fin 1 → ℕ) a + S1.size a ≤ S8.size a) (v : Elt F .i32) (y : S8.Idx) :
    M.view.read (Elt F) (M.view.writes (Elt F) f (⟨Rect.unit (s := S8) ![n] S1.size h, fun _ => v⟩ :: L)) y
      = if (y 0).val = n then v else M.view.read (Elt F) (M.view.writes (Elt F) f L) y := by
  split
  · rename_i hy
    exact View.read_writes_cons_unit_of_mem M.view f h (fun _ => v) L y one0 rfl (fun a => by
      match a with | ⟨0, _⟩ => exact hy)
  · rename_i hy
    exact View.read_writes_cons_unit_of_not_mem M.view f h (fun _ => v) L y rfl (0 : Fin 1) (by
      show (y 0).val < n ∨ n + 1 ≤ (y 0).val; omega)

/-- The eight words written one by one are the table. -/
theorem read_table (c : Dev nD) (M : Memref sig .tc .smem S8 .i32) (f : Buf (Elt F) (M.view.loc (c : Thread nD τ))) (row : FVec F S1x4096 .f32)
    (h0 : ∀ a, (![0] : Fin 1 → ℕ) a + S1.size a ≤ S8.size a) (h1 : ∀ a, (![1] : Fin 1 → ℕ) a + S1.size a ≤ S8.size a)
    (h2 : ∀ a, (![2] : Fin 1 → ℕ) a + S1.size a ≤ S8.size a) (h3 : ∀ a, (![3] : Fin 1 → ℕ) a + S1.size a ≤ S8.size a)
    (h4 : ∀ a, (![4] : Fin 1 → ℕ) a + S1.size a ≤ S8.size a) (h5 : ∀ a, (![5] : Fin 1 → ℕ) a + S1.size a ≤ S8.size a)
    (h6 : ∀ a, (![6] : Fin 1 → ℕ) a + S1.size a ≤ S8.size a) (h7 : ∀ a, (![7] : Fin 1 → ℕ) a + S1.size a ≤ S8.size a) :
    M.view.read (Elt F) (M.view.writes (Elt F) f
      [⟨Rect.unit (s := S8) ![7] S1.size h7, fun _ => Scalar.select (live row 7) 7#32 (firstLive row)⟩,
       ⟨Rect.unit (s := S8) ![6] S1.size h6, fun _ => Scalar.select (live row 6) 6#32 (firstLive row)⟩,
       ⟨Rect.unit (s := S8) ![5] S1.size h5, fun _ => Scalar.select (live row 5) 5#32 (firstLive row)⟩,
       ⟨Rect.unit (s := S8) ![4] S1.size h4, fun _ => Scalar.select (live row 4) 4#32 (firstLive row)⟩,
       ⟨Rect.unit (s := S8) ![3] S1.size h3, fun _ => Scalar.select (live row 3) 3#32 (firstLive row)⟩,
       ⟨Rect.unit (s := S8) ![2] S1.size h2, fun _ => Scalar.select (live row 2) 2#32 (firstLive row)⟩,
       ⟨Rect.unit (s := S8) ![1] S1.size h1, fun _ => Scalar.select (live row 1) 1#32 (firstLive row)⟩,
       ⟨Rect.unit (s := S8) ![0] S1.size h0, fun _ => Scalar.select (live row 0) 0#32 (firstLive row)⟩]) = colTable row := by
  funext y
  rw [read_word, read_word, read_word, read_word, read_word, read_word, read_word, read_word]
  unfold colTable
  generalize (y 0 : Fin 8) = b
  fin_cases b <;> rfl

theorem gathered_eq (c : Dev nD) (arg0 : Memref sig .tc .smem S30 .i32) (f0 : Buf (Elt F) (arg0.view.loc (c : Thread nD τ)))
    (hw : ∀ i, (posWord (F := F) c arg0 f0 i).toNat < 4096) (fh : Buf (Elt F) (hbM.view.loc (c : Thread nD τ))) :
    scM.view.read (Elt F) (gathered c arg0 f0 hw fh) = rowsOf (arg0.view.read (Elt F) f0) fh := by
  funext ix
  show (fh : S4096x4096.Idx → Elt F .f32) _ = (fh : S4096x4096.Idx → Elt F .f32) _
  refine congrArg (fh : S4096x4096.Idx → Elt F .f32) (congrArg (fun r => trIx r (ix 1)) (Fin.ext ?_))
  show (posWord (F := F) c arg0 f0 (ix 0)).toNat = _ % 4096
  rw [← posWord_eq c arg0 f0 (ix 0), Nat.mod_eq_of_lt (hw (ix 0))]

set_option sl_exec.dischHeartbeats 200000 in
/-- The body's run: from the staged operands, the scratch, its semaphore at zero and the trails, it leaves the mask row and
    the table of columns, and everything else as it was. -/
theorem maskRun (c : Dev nD) (W : Waits sig Unit)
    (arg0 : Memref sig .tc .smem S30 .i32) (harg0 : arg0.IsWhole) (arg1 : Memref sig .tc .smem S1 .f32) (harg1 : arg1.IsWhole)
    (arg3 : Memref sig .tc .vmem S30x4096 .f32) (harg3 : arg3.IsWhole) (arg4 : Memref sig .tc .vmem S30x4096 .f32) (harg4 : arg4.IsWhole)
    (arg5 : Memref sig .tc .vmem S1x4096 .f32) (harg5 : arg5.IsWhole)
    (arg6 : Memref sig .tc .vmem S1x4096 .f32) (harg6 : arg6.IsWhole)
    (arg7 : Memref sig .tc .smem S8 .i32) (harg7 : arg7.IsWhole)
    (d0 : Vec F S30 .i32) (hd : ∀ i : Fin 30, (d0 (ix30 i) : BitVec 32).toNat < 4096) (d1 : Vec F S1 .f32) (d3 d4 : Vec F S30x4096 .f32) (d5 : Vec F S1x4096 .f32)
    (fh : Buf (Elt F) (hbM.view.loc (c : Thread nD τ))) (Q : PUnit → sProp 𝕄) :
   iprop(owns (c : Thread nD τ) arg0 fullShare d0 ∗ owns (c : Thread nD τ) arg1 fullShare d1 ∗ owns (c : Thread nD τ) arg3 fullShare d3
       ∗ owns (c : Thread nD τ) arg4 fullShare d4 ∗ owns (c : Thread nD τ) arg5 fullShare d5
       ∗ (∃ X : Vec F S1x4096 .f32, owns (c : Thread nD τ) arg6 fullShare X) ∗ (∃ X : Vec F S8 .i32, owns (c : Thread nD τ) arg7 fullShare X)
       ∗ (∃ fs : Buf (Elt F) (scM.view.loc (c : Thread nD τ)), wholePt c scM fs) ∗ semVal ((c : Thread nD τ), SemLoc.dma cc0_scratch1.sem) 0 ∗ wholePt c hbM fh
       ∗ owes (c : Thread nD τ) 0 W
       ∗ ((owns (c : Thread nD τ) arg0 fullShare d0 ∗ owns (c : Thread nD τ) arg1 fullShare d1 ∗ owns (c : Thread nD τ) arg3 fullShare d3
           ∗ owns (c : Thread nD τ) arg4 fullShare d4 ∗ owns (c : Thread nD τ) arg5 fullShare d5
           ∗ owns (c : Thread nD τ) arg6 fullShare (maskRow (rowsOf d0 fh) d3 d4 (d1 one0) d5)
           ∗ owns (c : Thread nD τ) arg7 fullShare (colTable (maskRow (rowsOf d0 fh) d3 d4 (d1 one0) d5))
           ∗ (∃ fs : Buf (Elt F) (scM.view.loc (c : Thread nD τ)), wholePt c scM fs) ∗ semVal ((c : Thread nD τ), SemLoc.dma cc0_scratch1.sem) 0 ∗ wholePt c hbM fh
           ∗ (∃ W', owes (c : Thread nD τ) 0 W')) -∗ Q ⟨⟩))
     ⊢ wp frame (wpE (defs₀ (F := F)) Variants.none c none) Set.univ
          (cc0__mask_body arg0 harg0 arg1 harg1 hbM (Memref.isWhole_whole _) arg3 harg3 arg4 harg4 arg5 harg5 arg6 harg6 arg7 harg7 scM (Memref.isWhole_whole _) cc0_scratch1) Q := by
  simp only [owns_wholePt c arg0 harg0, owns_wholePt c arg1 harg1, owns_wholePt c arg3 harg3, owns_wholePt c arg4 harg4, owns_wholePt c arg5 harg5, owns_wholePt c arg6 harg6, owns_wholePt c arg7 harg7]
  iintro ⟨⟨%f0, %e0, H0⟩, ⟨%f1, %e1, H1⟩, ⟨%f3, %e3, H3⟩, ⟨%f4, %e4, H4⟩, ⟨%f5, %e5, H5⟩, ⟨%X6, %f6, -, H6⟩, ⟨%X7, %f7, -, H7⟩, ⟨%fs, HD⟩, Hsem, HT, HO, Hk⟩
  subst e0 e1 e3 e4 e5
  have hw : ∀ i, (posWord (F := F) c arg0 f0 i).toNat < 4096 := fun i => by rw [posWord_eq]; exact hd i
  have hG := gathered_eq c arg0 f0 hw fh
  ihave HD := (Entails.of_eq ((scratch_rows c fs).trans (bigSep30 (fun i => dstPt c i fs)))) $$ HD
  icases HD with ⟨HD0, HD1, HD2, HD3, HD4, HD5, HD6, HD7, HD8, HD9, HD10, HD11, HD12, HD13, HD14, HD15, HD16, HD17, HD18, HD19, HD20, HD21, HD22, HD23, HD24, HD25, HD26, HD27, HD28, HD29⟩
  ihave HT := (Entails.of_eq (src_split c arg0 f0 hw fh)) $$ HT
  icases HT with ⟨Hdrop, HS, Hrest⟩
  ihave HS := (Entails.of_eq (bigSep30 (fun i => srcPt c arg0 f0 hw fh i))) $$ HS
  icases HS with ⟨HS0, HS1, HS2, HS3, HS4, HS5, HS6, HS7, HS8, HS9, HS10, HS11, HS12, HS13, HS14, HS15, HS16, HS17, HS18, HS19, HS20, HS21, HS22, HS23, HS24, HS25, HS26, HS27, HS28, HS29⟩
  imod (Transfers.batch_alloc' (Lvl := ℕ) (countersEmb (U := Pipeline.UD sig nD τ)) (c : Thread nD τ) () N (deliv c arg0 f0 hw fh) (sm := .dma cc0_scratch1.sem) (E := Set.univ)) $$ Hsem with HB
  simp only [cc0__mask_body_eq_skeleton]; unfold cc0__mask_body_skel
  sl_exec (disch := exact word_inb c arg0 f0 hw _ _)
  ihave Hsc := (Entails.of_eq ((bigSep30 (fun i => dstPt c i (landed c arg0 f0 hw fh i))).symm.trans (landed_rows c arg0 f0 hw fh))) $$ [HB_dst0 HB_dst1 HB_dst2 HB_dst3 HB_dst4 HB_dst5 HB_dst6 HB_dst7 HB_dst8 HB_dst9 HB_dst10 HB_dst11 HB_dst12 HB_dst13 HB_dst14 HB_dst15 HB_dst16 HB_dst17 HB_dst18 HB_dst19 HB_dst20 HB_dst21 HB_dst22 HB_dst23 HB_dst24 HB_dst25 HB_dst26 HB_dst27 HB_dst28 HB_dst29]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    isplitl [HB_dst7]; · iexact HB_dst7
    isplitl [HB_dst8]; · iexact HB_dst8
    isplitl [HB_dst9]; · iexact HB_dst9
    isplitl [HB_dst10]; · iexact HB_dst10
    isplitl [HB_dst11]; · iexact HB_dst11
    isplitl [HB_dst12]; · iexact HB_dst12
    isplitl [HB_dst13]; · iexact HB_dst13
    isplitl [HB_dst14]; · iexact HB_dst14
    isplitl [HB_dst15]; · iexact HB_dst15
    isplitl [HB_dst16]; · iexact HB_dst16
    isplitl [HB_dst17]; · iexact HB_dst17
    isplitl [HB_dst18]; · iexact HB_dst18
    isplitl [HB_dst19]; · iexact HB_dst19
    isplitl [HB_dst20]; · iexact HB_dst20
    isplitl [HB_dst21]; · iexact HB_dst21
    isplitl [HB_dst22]; · iexact HB_dst22
    isplitl [HB_dst23]; · iexact HB_dst23
    isplitl [HB_dst24]; · iexact HB_dst24
    isplitl [HB_dst25]; · iexact HB_dst25
    isplitl [HB_dst26]; · iexact HB_dst26
    isplitl [HB_dst27]; · iexact HB_dst27
    isplitl [HB_dst28]; · iexact HB_dst28
    iexact HB_dst29
  sl_exec
  sl_step
  ihave Hsrc := (Entails.of_eq (bigSep30 (fun i => srcPt c arg0 f0 hw fh i)).symm) $$ [HB_src0 HB_src1 HB_src2 HB_src3 HB_src4 HB_src5 HB_src6 HB_src7 HB_src8 HB_src9 HB_src10 HB_src11 HB_src12 HB_src13 HB_src14 HB_src15 HB_src16 HB_src17 HB_src18 HB_src19 HB_src20 HB_src21 HB_src22 HB_src23 HB_src24 HB_src25 HB_src26 HB_src27 HB_src28 HB_src29]
  · isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    isplitl [HB_src7]; · iexact HB_src7
    isplitl [HB_src8]; · iexact HB_src8
    isplitl [HB_src9]; · iexact HB_src9
    isplitl [HB_src10]; · iexact HB_src10
    isplitl [HB_src11]; · iexact HB_src11
    isplitl [HB_src12]; · iexact HB_src12
    isplitl [HB_src13]; · iexact HB_src13
    isplitl [HB_src14]; · iexact HB_src14
    isplitl [HB_src15]; · iexact HB_src15
    isplitl [HB_src16]; · iexact HB_src16
    isplitl [HB_src17]; · iexact HB_src17
    isplitl [HB_src18]; · iexact HB_src18
    isplitl [HB_src19]; · iexact HB_src19
    isplitl [HB_src20]; · iexact HB_src20
    isplitl [HB_src21]; · iexact HB_src21
    isplitl [HB_src22]; · iexact HB_src22
    isplitl [HB_src23]; · iexact HB_src23
    isplitl [HB_src24]; · iexact HB_src24
    isplitl [HB_src25]; · iexact HB_src25
    isplitl [HB_src26]; · iexact HB_src26
    isplitl [HB_src27]; · iexact HB_src27
    isplitl [HB_src28]; · iexact HB_src28
    iexact HB_src29
  ihave HT := (Entails.of_eq (src_split c arg0 f0 hw fh).symm) $$ [Hdrop Hsrc Hrest]
  · isplitl [Hdrop]; · iexact Hdrop
    isplitl [Hsrc]; · iexact Hsrc
    iexact Hrest
  have hrow : maskRow (View.readAt (Elt F) scM.view (Rect.unit (s := S30x4096) ![0, 0] S30x4096.size inb_z_S30x4096).toLoadRect (gathered c arg0 f0 hw fh))
      (View.readAt (Elt F) arg3.view (Rect.unit (s := S30x4096) ![0, 0] S30x4096.size inb_z_S30x4096).toLoadRect f3)
      (View.readAt (Elt F) arg4.view (Rect.unit (s := S30x4096) ![0, 0] S30x4096.size inb_z_S30x4096).toLoadRect f4)
      (View.readAt (Elt F) arg1.view (Rect.unit (s := S1) ![0] S1.size inb_z_S1).toLoadRect f1 (Shape.Idx.first (numel1_S1.symm ▸ Nat.one_pos)))
      (View.readAt (Elt F) arg5.view (Rect.unit (s := S1x4096) ![0, 0] S1x4096.size inb_z_S1x4096).toLoadRect f5)
      = maskRow (rowsOf (arg0.view.read (Elt F) f0) fh) (arg3.view.read (Elt F) f3) (arg4.view.read (Elt F) f4) (arg1.view.read (Elt F) f1 one0) (arg5.view.read (Elt F) f5) := by
    rw [readAt_full c scM zero2, readAt_full c arg3 zero2, readAt_full c arg4 zero2, readAt_full c arg5 zero2, readAt_full c arg1 zero1, hG, first_one]
  rw [← hrow]
  iapply Hk
  isplitl [H0]; · iexists f0; isplitr; · ipureintro; rfl
                  iexact H0
  isplitl [H1]; · iexists f1; isplitr; · ipureintro; rfl
                  iexact H1
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _
    isplitr; swap; · iexact H6
    ipureintro
    exact read_writes_full c arg6 zero2 _ f6 _
  isplitl [H7]
  · iexists _
    isplitr; swap; · iexact H7
    ipureintro
    exact read_table c arg7 f7 _ _ _ _ _ _ _ _ _
  isplitl [Hsc]; · iexists _; iexact Hsc
  isplitl [HB]; · iexact HB
  isplitl [HT]; · iexact HT
  iexists _; iexact HO

end Cert.KernelIdeal.Hand

end
-- ==== Proof.MaskRegion.lean ====
/-
  The mask kernel as a region of the program: what its seven windows hold before and after its one point, and the two
  arrays it leaves — the row of mask values and the table of columns — as functions of the arrays it was entered with.
-/
module

public import proofs.«01_k».proof.Proof.MaskBody
public import proofs.«01_k».proof.Proof.Gen.KernelIdeal.Regions
public import Idealize.ShloMosaic.Lib.Pipeline.RegionArraysD
public import Idealize.ShloMosaic.Lib.Pipeline.FrameBody
public import Idealize.ShloMosaic.Lib.Pipeline.Value
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-! ## The arrays the region is entered with, and what it makes of them -/

variable (V : Dev nD → Valuation τ sig (Elt F))

abbrev posOf (c : Dev nD) : Vec F S30 .i32 := V c main_arg2
abbrev blenOf (c : Dev nD) : Vec F S1 .f32 := V c main_v0
abbrev noiseOf (c : Dev nD) : Vec F S30x4096 .f32 := V c main_cst
abbrev pathsOf (c : Dev nD) : Vec F S30x4096 .f32 := V c main_arg3
abbrev bestOf (c : Dev nD) : Vec F S1x4096 .f32 := V c main_v1
abbrev trailsOf (c : Dev nD) : S4096x4096.Idx → Elt F .f32 := V c main_arg1

/-- The row of mask values, and the table of columns, of the arrays the region is entered with. -/
def maskOf (c : Dev nD) : FVec F S1x4096 .f32 :=
  maskRow (rowsOf (posOf V c) (trailsOf V c)) (noiseOf V c) (pathsOf V c) (blenOf V c one0) (bestOf V c)
def tableOf (c : Dev nD) : Vec F S8 .i32 := colTable (maskOf V c)

/-- The kernel's one DMA semaphore, and the operand it reads in place. -/
abbrev osem0 : Fin 1 → SemLoc sig := fun _ => SemLoc.dma cc0_scratch1.sem
abbrev H0 : Finset (Ref sig .tc) := {main_arg1}
theorem ownSemFacts0 : Pipeline.OwnSemFacts spec0 osem0 := by decide

/-- The proof data: every array as found; after the body the five inputs as staged, the mask row and the table; the scoped
    rest, the generator register, the semaphore and the trails held throughout; nothing owed. -/
def dat0 (c : Dev nD) : Dat τ (Elt F) Unit ℕ (Pipeline.UD sig nD τ) ℕ cfg0 c where
  A w := V c (Pipeline.arrRef spec0 w)
  after w _ := match w with
    | ⟨0, _⟩ => posOf V c
    | ⟨1, _⟩ => blenOf V c
    | ⟨2, _⟩ => noiseOf V c
    | ⟨3, _⟩ => pathsOf V c
    | ⟨4, _⟩ => bestOf V c
    | ⟨5, _⟩ => maskOf V c
    | ⟨6, _⟩ => tableOf V c
  Φ _ := Pipeline.ΦD osem0 spec0 H0 (fun c b => V c b) c
  q _ := fullShare
  owed _ := 0

/-! ## A window's one block is its whole array -/

theorem index0 : ∀ (w : Fin 7) (t : Fin cfg0.N) (a : Fin (cfg0.win w).shape.rank), (cfg0.win w).index t a * (cfg0.win w).size a = 0 := by
  intro w t
  obtain rfl := fin_N0 t
  revert w
  decide +kernel

theorem before_0 (c : Dev nD) (t : Fin cfg0.N) (d) : (dat0 V c).before 0 t d = posOf V c := by
  unfold Dat.before; rw [if_pos (fetch0_0 t)]
  funext ix
  refine congrArg (V c main_arg2) (funext fun a => Fin.ext ?_)
  show (cfg0.win 0).index t a * (cfg0.win 0).size a + 1 * (ix a).val = (ix a).val
  rw [index0 0 t a]; omega
theorem before_1 (c : Dev nD) (t : Fin cfg0.N) (d) : (dat0 V c).before 1 t d = blenOf V c := by
  unfold Dat.before; rw [if_pos (fetch0_1 t)]
  funext ix
  refine congrArg (V c main_v0) (funext fun a => Fin.ext ?_)
  show (cfg0.win 1).index t a * (cfg0.win 1).size a + 1 * (ix a).val = (ix a).val
  rw [index0 1 t a]; omega
theorem before_2 (c : Dev nD) (t : Fin cfg0.N) (d) : (dat0 V c).before 2 t d = noiseOf V c := by
  unfold Dat.before; rw [if_pos (fetch0_2 t)]
  funext ix
  refine congrArg (V c main_cst) (funext fun a => Fin.ext ?_)
  show (cfg0.win 2).index t a * (cfg0.win 2).size a + 1 * (ix a).val = (ix a).val
  rw [index0 2 t a]; omega
theorem before_3 (c : Dev nD) (t : Fin cfg0.N) (d) : (dat0 V c).before 3 t d = pathsOf V c := by
  unfold Dat.before; rw [if_pos (fetch0_3 t)]
  funext ix
  refine congrArg (V c main_arg3) (funext fun a => Fin.ext ?_)
  show (cfg0.win 3).index t a * (cfg0.win 3).size a + 1 * (ix a).val = (ix a).val
  rw [index0 3 t a]; omega
theorem before_4 (c : Dev nD) (t : Fin cfg0.N) (d) : (dat0 V c).before 4 t d = bestOf V c := by
  unfold Dat.before; rw [if_pos (fetch0_4 t)]
  funext ix
  refine congrArg (V c main_v1) (funext fun a => Fin.ext ?_)
  show (cfg0.win 4).index t a * (cfg0.win 4).size a + 1 * (ix a).val = (ix a).val
  rw [index0 4 t a]; omega

/-- After the region the mask row's array holds the mask row, -/
theorem arrAt0_5 (c : Dev nD) : (dat0 V c).arrAt 5 cfg0.N = maskOf V c :=
  (dat0 V c).arrAt_eq_of_after_last 5 t0_0 (by decide +kernel) (maskOf V c) fun j => rfl
/-- and the table's array the table. -/
theorem arrAt0_6 (c : Dev nD) : (dat0 V c).arrAt 6 cfg0.N = tableOf V c :=
  (dat0 V c).arrAt_eq_of_after_last 6 t0_0 (by decide +kernel) (tableOf V c) fun j => rfl

/-! ## The body at the one point -/

variable (hV : ∀ (c : Dev nD) (i : Fin 30), (posOf V c (ix30 i) : BitVec 32).toNat < 4096)

/-- What the body is called with, and what it returns. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))
def bodyPost0 (c : Dev nD) (t : Fin cfg0.N) : sProp 𝕄 :=
  iprop((dat0 V c).Φ t.succ ∗ (dat0 V c).owesAt () t.succ
    ∗ owns (c : Thread nD τ) (st0_0 t) fullShare (posOf V c)
    ∗ owns (c : Thread nD τ) (st0_1 t) fullShare (blenOf V c)
    ∗ owns (c : Thread nD τ) (st0_2 t) fullShare (noiseOf V c)
    ∗ owns (c : Thread nD τ) (st0_3 t) fullShare (pathsOf V c)
    ∗ owns (c : Thread nD τ) (st0_4 t) fullShare (bestOf V c)
    ∗ owns (c : Thread nD τ) (st0_5 t) fullShare (maskOf V c)
    ∗ owns (c : Thread nD τ) (st0_6 t) fullShare (tableOf V c))

/-- What is held throughout, taken apart. -/
theorem PhiD0_eq (c : Dev nD) : (Pipeline.ΦD osem0 spec0 H0 (fun c b => V c b) c : sProp 𝕄)
    = iprop(Pipeline.scopedRest (Ix := Unit) (Name := ℕ) (U := Pipeline.UD sig nD τ) (Lvl := ℕ) (Val := Elt F) spec0 c ∗ (∃ r, prngReg c r)
        ∗ semVal ((c : Thread nD τ), SemLoc.dma cc0_scratch1.sem) 0 ∗ wholePt c hbM (V c main_arg1)) := by
  rw [Pipeline.ΦD_eq, Pipeline.ownSems0_eq_of_list c osem0 [0] (by decide) (by decide),
    BI.bigSep_eq_bigSepL_of_eq [main_arg1] (by decide) (by decide)]
  rfl

include hV in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    show (dat0 V c).Φ t.castSucc = Pipeline.ΦD osem0 spec0 H0 (fun c b => V c b) c from rfl, PhiD0_eq, scopedRest0_eq]
  simp only [before_0, before_1, before_2, before_3, before_4]
  unfold Dat.owesAt Pipeline.owesWithin
  rw [show (dat0 V c).owed t.castSucc = 0 from rfl]
  iintro ⟨⟨⟨Hsc, Hrest⟩, Hg, Hq, Hh⟩, ⟨%W, %hW, HO⟩, ⟨%d0, H0⟩, ⟨%d1, H1⟩, ⟨%d2, H2⟩, ⟨%d3, H3⟩, ⟨%d4, H4⟩, ⟨%d5, H5⟩, ⟨%d6, H6⟩⟩
  iapply (maskRun c W (st0_0 t) (hstage0_0 0) (st0_1 t) (hstage0_1 0) (st0_2 t) (hstage0_2 0) (st0_3 t) (hstage0_3 0) (st0_4 t) (hstage0_4 0)
    (st0_5 t) (hstage0_5 0) (st0_6 t) (hstage0_6 0) (posOf V c) (hV c) (blenOf V c) (noiseOf V c) (pathsOf V c) (bestOf V c) (V c main_arg1) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [Hsc]; · iexact Hsc
  isplitl [Hq]; · iexact Hq
  isplitl [Hh]; · iexact Hh
  isplitl [HO]; · iexact HO
  iintro ⟨H0, H1, H2, H3, H4, H5, H6, Hsc, Hq, Hh, ⟨%W', HO⟩⟩
  isplitl [Hsc Hrest Hg Hq Hh]
  · isplitl [Hsc Hrest]
    · isplitl [Hsc]; · iexact Hsc
      iexact Hrest
    isplitl [Hg]; · iexact Hg
    isplitl [Hq]; · iexact Hq
    iexact Hh
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) : defs₀ (F := F) .tc cfg0.body (cfg0.bodyArgs t (cfg0.slots t)) = bodyAt0 t := by
  unfold defs₀; rw [Defs.onTc_tc]

include hV in
theorem body_obligation0 (c : Dev nD) : BodyObligation (dat0 V c) (defs₀ (F := F)) Variants.none () Set.univ := fun t => by
  rw [bigSep_W0, bigSep_W0, defs₀_row0]
  exact triple_restated (sound_body0 V hV c t) rfl .rfl fun _ => .rfl

end Cert.KernelIdeal.Hand

end
-- ==== Proof.MulRegion.lean ====
/-
  The product kernel as a region of the program: sixteen points, each multiplying one block of `x` — the block of columns a
  table of eight words names — by the block of the mask row under it. What its windows hold before and after each point,
  and the array it leaves as a function of `x`, the mask row and the table.
-/
module

public import proofs.«01_k».proof.Proof.MaskRegion
public import Idealize.ShloMosaic.Lib.Pipeline.RegionArraysT

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-! ## The body -/

theorem inb_z_S4096x512 : ∀ a, (![0, 0] : Fin 2 → ℕ) a + S4096x512.size a ≤ S4096x512.size a := by decide
theorem inb_z_S1x512 : ∀ a, (![0, 0] : Fin 2 → ℕ) a + S1x512.size a ≤ S1x512.size a := by decide

/-- The body's run: from the two staged blocks it leaves their product, and the blocks as they were. -/
theorem mulRun (c : Dev nD) (i : grid1.Coords) (arg2 : Memref sig .tc .smem S8 .i32) (harg2 : arg2.IsWhole)
    (arg3 : Memref sig .tc .vmem S4096x512 .f32) (harg3 : arg3.IsWhole) (arg4 : Memref sig .tc .vmem S1x512 .f32) (harg4 : arg4.IsWhole)
    (arg5 : Memref sig .tc .vmem S4096x512 .f32) (harg5 : arg5.IsWhole) (d3 : Vec F S4096x512 .f32) (d4 : Vec F S1x512 .f32) (Q : PUnit → sProp 𝕄) :
   iprop(owns (c : Thread nD τ) arg3 fullShare d3 ∗ owns (c : Thread nD τ) arg4 fullShare d4
       ∗ (∃ X : Vec F S4096x512 .f32, owns (c : Thread nD τ) arg5 fullShare X)
       ∗ ((owns (c : Thread nD τ) arg3 fullShare d3 ∗ owns (c : Thread nD τ) arg4 fullShare d4
           ∗ owns (c : Thread nD τ) arg5 fullShare (k1_pay1 d3 d4)) -∗ Q ⟨⟩))
     ⊢ wp frame (wpE (defs₀ (F := F)) Variants.none c none) Set.univ (cc1__mul_body i arg2 harg2 arg3 harg3 arg4 harg4 arg5 harg5) Q := by
  simp only [owns_wholePt c arg3 harg3, owns_wholePt c arg4 harg4, owns_wholePt c arg5 harg5]
  iintro ⟨⟨%f3, %e3, H3⟩, ⟨%f4, %e4, H4⟩, ⟨%X5, %f5, -, H5⟩, Hk⟩
  subst e3 e4
  simp only [cc1__mul_body_eq_skeleton]; unfold cc1__mul_body_skel
  sl_exec
  sl_step
  have hp : k1_pay1 (View.readAt (Elt F) arg3.view (Rect.unit (s := S4096x512) ![0, 0] S4096x512.size inb_z_S4096x512).toLoadRect f3)
      (View.readAt (Elt F) arg4.view (Rect.unit (s := S1x512) ![0, 0] S1x512.size inb_z_S1x512).toLoadRect f4)
      = k1_pay1 (arg3.view.read (Elt F) f3) (arg4.view.read (Elt F) f4) := by
    rw [readAt_full c arg3 zero2, readAt_full c arg4 zero2]
  rw [← hp]
  iapply Hk
  isplitl [H3]; · iexists f3; isplitr; · ipureintro; rfl
                  iexact H3
  isplitl [H4]; · iexists f4; isplitr; · ipureintro; rfl
                  iexact H4
  iexists _
  isplitr; swap; · iexact H5
  ipureintro
  exact read_writes_full c arg5 zero2 _ f5 _

/-! ## The table -/

/-- Entry `b` of a table of eight words. -/
def ix8 (b : Fin 8) : S8.Idx := fun | ⟨0, _⟩ => b

/-- A table of eight words as the contents of the program's prefetched tables. -/
def tblOf (T : Vec F S8 .i32) : pre1.Contents (Elt F) := fun | ⟨0, _⟩ => T | ⟨_ + 1, h⟩ => absurd h (Nat.not_lt.2 (Nat.le_add_left _ _))

/-- Which block of `x` point `i` reads: the row block its first coordinate names, the column block the table names at its second. -/
theorem transform_0_eq (T : Vec F S8 .i32) (i : grid1.Coords) :
    cc1_transform_0 k1_off1_inb numel1_S1 (tblOf T) i = ![(i 0).val, (T (ix8 (i 1)) : BitVec 32).toNat] := by
  have e0 : ∀ k : Fin 2, (BitVec.ofNat 32 k.val).toNat = k.val := by decide
  have e1 : ∀ k : Fin 8, (Scalar.indexCast (BitVec.ofNat 32 k.val)).toNat = k.val := by decide
  have hx : (Rect.unit (s := S8) ![(Scalar.indexCast (BitVec.ofNat 32 (i 1).val)).toNat] S1.size (k1_off1_inb i)).emb
      (Shape.Idx.first (numel1_S1.symm ▸ Nat.one_pos)) = ix8 (i 1) := by
    rw [first_one]
    funext a; refine Fin.ext ?_
    match a with
    | ⟨0, _⟩ => show (Scalar.indexCast (BitVec.ofNat 32 (i 1).val)).toNat + 1 * 0 = (i 1).val; rw [e1 (i 1)]; rfl
  unfold cc1_transform_0
  dsimp only
  rw [e0 (i 0)]
  show ![(i 0).val, (T ((Rect.unit (s := S8) ![(Scalar.indexCast (BitVec.ofNat 32 (i 1).val)).toNat] S1.size (k1_off1_inb i)).emb
      (Shape.Idx.first (numel1_S1.symm ▸ Nat.one_pos))) : BitVec 32).toNat] = _
  rw [hx]

/-- A table whose words are below eight is admissible: every block it names lies inside `x`. -/
theorem ok_of_lt (T : Vec F S8 .i32) (hT : ∀ ix, (T ix : BitVec 32).toNat < 8) : ok1 (tblOf T) := by
  refine fun i => ⟨fun a => ?_, Or.inl rfl⟩
  rw [transform_0_eq]
  match a with
  | ⟨0, _⟩ =>
    have h : (i 0).val < 2 := (i 0).isLt
    show ((i 0).val + 1) * 4096 ≤ 8192; omega
  | ⟨1, _⟩ =>
    have h := hT (ix8 (i 1))
    show ((T (ix8 (i 1)) : BitVec 32).toNat + 1) * 512 ≤ 4096; omega

/-- The table of a mask row, admissible. -/
def adm1 (T : Vec F S8 .i32) (hT : ∀ ix, (T ix : BitVec 32).toNat < 8) : (pcfg1 (F := F)).Adm := ⟨tblOf T, ok_of_lt T hT⟩

/-! ## The proof data -/

variable (V : Dev nD → Valuation τ sig (Elt F)) (T : Vec F S8 .i32) (hT : ∀ ix, (T ix : BitVec 32).toNat < 8)

abbrev xOf (c : Dev nD) : Vec F S8192x4096 .f32 := V c main_v3
abbrev rowIn (c : Dev nD) : Vec F S1x4096 .f32 := V c main_v2_0

abbrev xBlk (c : Dev nD) (t : Fin (cfg1 (adm1 T hT)).N) : Vec F S4096x512 .f32 := ((win1 (adm1 T hT) 0).blk t).view.read (Elt F) (V c main_v3)
abbrev mBlk (c : Dev nD) (t : Fin (cfg1 (adm1 T hT)).N) : Vec F S1x512 .f32 := ((win1 (adm1 T hT) 1).blk t).view.read (Elt F) (V c main_v2_0)

/-- The proof data: every array as found; after the body the two blocks as staged and their product; the scoped rest, the
    generator register and the table held throughout; nothing owed. -/
def dat1 (c : Dev nD) : Dat τ (Elt F) Unit ℕ (Pipeline.UD sig nD τ) ℕ (cfg1 (adm1 T hT)) c where
  A w := V c (Pipeline.arrRef spec1 w)
  after w t := match w with
    | ⟨0, _⟩ => xBlk V T hT c t
    | ⟨1, _⟩ => mBlk V T hT c t
    | ⟨2, _⟩ => k1_pay1 (xBlk V T hT c t) (mBlk V T hT c t)
  Φ _ := iprop((Pipeline.scopedRest (Ix := Unit) (Name := ℕ) (U := Pipeline.UD sig nD τ) (Lvl := ℕ) (Val := Elt F) spec1 c ∗ (∃ r, prngReg c r))
    ∗ Pipeline.prefHeld pre1 c (fun _ => fullShare) (tblOf T))
  q _ := fullShare
  owed _ := 0

theorem before1_0 (c : Dev nD) (t : Fin (cfg1 (adm1 T hT)).N) (d) : (dat1 V T hT c).before 0 t d = xBlk V T hT c t :=
  ((dat1 V T hT c).before_in_eq_fetched 0 rfl (fun _ => rfl) (fun _ _ _ => rfl) (fun _ => rfl) t d).trans rfl
theorem before1_1 (c : Dev nD) (t : Fin (cfg1 (adm1 T hT)).N) (d) : (dat1 V T hT c).before 1 t d = mBlk V T hT c t :=
  ((dat1 V T hT c).before_in_eq_fetched 1 rfl (fun _ => rfl) (fun _ _ _ => rfl) (fun _ => rfl) t d).trans rfl

/-! ## The body at a point -/

abbrev st1_0 (t : Fin (cfg1 (adm1 T hT)).N) := ((cfg1 (adm1 T hT)).win 0).stage ((cfg1 (adm1 T hT)).slots t 0)
abbrev st1_1 (t : Fin (cfg1 (adm1 T hT)).N) := ((cfg1 (adm1 T hT)).win 1).stage ((cfg1 (adm1 T hT)).slots t 1)
abbrev st1_2 (t : Fin (cfg1 (adm1 T hT)).N) := ((cfg1 (adm1 T hT)).win 2).stage ((cfg1 (adm1 T hT)).slots t 2)

/-- The kernel body at point `t`, on the current staging buffers. -/
abbrev bodyAt1 (t : Fin (cfg1 (adm1 T hT)).N) : Prog (TpuEff nD τ sig (Elt F) Λ₀ .tc) PUnit :=
  cc1__mul_body (grid1.coords t) (Memref.whole main_v4) (Memref.isWhole_whole _)
    (spec1_0.stage ((cfg1 (adm1 T hT)).slots t 0)) (hstage1_0 (((cfg1 (adm1 T hT)).slots t 0).cast nbuf1_0))
    (spec1_1.stage ((cfg1 (adm1 T hT)).slots t 1)) (hstage1_1 (((cfg1 (adm1 T hT)).slots t 1).cast nbuf1_1))
    (spec1_2.stage ((cfg1 (adm1 T hT)).slots t 2)) (hstage1_2 (((cfg1 (adm1 T hT)).slots t 2).cast nbuf1_2))

/-- What the body is called with, and what it returns. -/
def bodyPre1 (c : Dev nD) (t : Fin (cfg1 (adm1 T hT)).N) : sProp 𝕄 :=
  iprop((dat1 V T hT c).Φ t.castSucc ∗ (dat1 V T hT c).owesAt () t.castSucc
    ∗ (∃ d, owns (c : Thread nD τ) (st1_0 T hT t) fullShare ((dat1 V T hT c).before 0 t d))
    ∗ (∃ d, owns (c : Thread nD τ) (st1_1 T hT t) fullShare ((dat1 V T hT c).before 1 t d))
    ∗ (∃ d, owns (c : Thread nD τ) (st1_2 T hT t) fullShare ((dat1 V T hT c).before 2 t d)))
def bodyPost1 (c : Dev nD) (t : Fin (cfg1 (adm1 T hT)).N) : sProp 𝕄 :=
  iprop((dat1 V T hT c).Φ t.succ ∗ (dat1 V T hT c).owesAt () t.succ
    ∗ owns (c : Thread nD τ) (st1_0 T hT t) fullShare (xBlk V T hT c t)
    ∗ owns (c : Thread nD τ) (st1_1 T hT t) fullShare (mBlk V T hT c t)
    ∗ owns (c : Thread nD τ) (st1_2 T hT t) fullShare (k1_pay1 (xBlk V T hT c t) (mBlk V T hT c t)))

theorem sound_body1 (c : Dev nD) (t : Fin (cfg1 (adm1 T hT)).N) :
    bodyPre1 V T hT c t ⊢ wp frame (wpE (defs₀ (F := F)) Variants.none c none) Set.univ (bodyAt1 T hT t) (fun _ => bodyPost1 V T hT c t) := by
  unfold bodyPre1 bodyPost1
  rw [show (dat1 V T hT c).Φ t.succ = (dat1 V T hT c).Φ t.castSucc from rfl,
    show (dat1 V T hT c).owesAt () t.succ = (dat1 V T hT c).owesAt () t.castSucc from rfl]
  simp only [before1_0, before1_1]
  iintro ⟨HΦ, HO, ⟨%d0, H0⟩, ⟨%d1, H1⟩, ⟨%d2, H2⟩⟩
  iapply (mulRun c (grid1.coords t) (Memref.whole main_v4) (Memref.isWhole_whole _) (st1_0 T hT t) (hstage1_0 (((cfg1 (adm1 T hT)).slots t 0).cast nbuf1_0))
    (st1_1 T hT t) (hstage1_1 (((cfg1 (adm1 T hT)).slots t 1).cast nbuf1_1))
    (st1_2 T hT t) (hstage1_2 (((cfg1 (adm1 T hT)).slots t 2).cast nbuf1_2)) (xBlk V T hT c t) (mBlk V T hT c t) _)
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1]; · iexact H1
  iexact H2

theorem defs₀_row1 (t : Fin (cfg1 (adm1 T hT)).N) :
    defs₀ (F := F) .tc (cfg1 (adm1 T hT)).body ((cfg1 (adm1 T hT)).bodyArgs t ((cfg1 (adm1 T hT)).slots t)) = bodyAt1 T hT t := by
  unfold defs₀; rw [Defs.onTc_tc]

theorem body_obligation1 (c : Dev nD) : BodyObligation (dat1 V T hT c) (defs₀ (F := F)) Variants.none () Set.univ := fun t => by
  rw [bigSep_W1, bigSep_W1, defs₀_row1]
  exact triple_restated (sound_body1 V T hT c t) rfl .rfl fun _ => .rfl

/-! ## The array the region leaves -/

/-- Entry `(r, k)` of the wide array. -/
def wideIx (r : Fin 8192) (k : Fin 4096) : S8192x4096.Idx := fun | ⟨0, _⟩ => r | ⟨1, _⟩ => k
def rowIx (k : Fin 4096) : S1x4096.Idx := fun | ⟨0, _⟩ => (0 : Fin 1) | ⟨1, _⟩ => k

/-- The column of `x` that column `k` of the product is read from: the same place in the block the table names for `k`'s. -/
def srcCol (k : Fin 4096) : Fin 4096 :=
  ⟨((T (ix8 ⟨k.val / 512, by omega⟩) : BitVec 32).toNat * 512 + k.val % 512) % 4096, Nat.mod_lt _ (by decide)⟩

/-- The product: entry `(r, k)` of `x` read at the column the table names, times the mask's entry `k`. -/
def productOf (x : Vec F S8192x4096 .f32) (row : Vec F S1x4096 .f32) : Vec F S8192x4096 .f32 := fun ix =>
  FloatOps.mulf (x (wideIx (ix 0) (srcCol T (ix 1)))) (row (rowIx (ix 1)))

theorem coords1 : ∀ t : Fin grid1.N, (grid1.coords t 0).val = t.val / 8 ∧ (grid1.coords t 1).val = t.val % 8 := by decide +kernel

theorem flush1_2 (t : Fin (cfg1 (adm1 T hT)).N) : ((cfg1 (adm1 T hT)).win 2).flush t = true := by
  rw [Pipeline.Window.flush_eq_flushOf]
  exact (by decide +kernel : ∀ t : Fin grid1.N, Pipeline.Window.flushOf grid1 true cc1_transform_2 t = true) t

/-- Entry `k` of a block of the mask row. -/
def blkIx (k : Fin 512) : S1x512.Idx := fun | ⟨0, _⟩ => (0 : Fin 1) | ⟨1, _⟩ => k

/-- The product of two blocks at an entry. -/
theorem pay1_apply (d3 : Vec F S4096x512 .f32) (d4 : Vec F S1x512 .f32) (y : S4096x512.Idx) :
    k1_pay1 d3 d4 y = FloatOps.mulf (d3 y) (d4 (blkIx (y 1))) := by
  unfold k1_pay1
  show FloatOps.mulf (shapeCast S4096x512 d3 shapeCasts_S4096x512_S4096x512 y)
    (broadcastTo S4096x512 (shapeCast S1x512 d4 shapeCasts_S1x512_S1x512) broadcasts_S1x512_S4096x512 y) = _
  rw [shapeCast_self, shapeCast_self]
  refine congrArg _ (congrArg d4 (funext fun a => ?_))
  match a with
  | ⟨0, _⟩ => rfl
  | ⟨1, _⟩ => rfl

theorem index1_0 (t : Fin grid1.N) : (win1 (adm1 T hT) 0).index t = ![(grid1.coords t 0).val, (T (ix8 (grid1.coords t 1)) : BitVec 32).toNat] :=
  transform_0_eq T (grid1.coords t)
theorem index1_1 (t : Fin grid1.N) : (win1 (adm1 T hT) 1).index t = ![0, (grid1.coords t 1).val] :=
  (by decide +kernel : ∀ t : Fin grid1.N, cc1_transform_1 (grid1.coords t) = ![0, (grid1.coords t 1).val]) t
theorem index1_2 (t : Fin grid1.N) : (win1 (adm1 T hT) 2).index t = ![(grid1.coords t 0).val, (grid1.coords t 1).val] :=
  (by decide +kernel : ∀ t : Fin grid1.N, cc1_transform_2 (grid1.coords t) = ![(grid1.coords t 0).val, (grid1.coords t 1).val]) t

/-- Where the blocks of the three windows at point `t` place the entry `y`. -/
theorem emb1_0 (t : Fin (cfg1 (adm1 T hT)).N) (y : S4096x512.Idx) (r : Fin 8192) (k : Fin 4096)
    (hr : (grid1.coords t 0).val * 4096 + (y 0).val = r.val) (hk : (T (ix8 (grid1.coords t 1)) : BitVec 32).toNat * 512 + (y 1).val = k.val) :
    ((win1 (adm1 T hT) 0).blk t).view.emb y = wideIx r k := by
  funext a; refine Fin.ext ?_
  show (win1 (adm1 T hT) 0).index t a * (win1 (adm1 T hT) 0).size a + 1 * (y a).val = _
  rw [index1_0]
  match a with
  | ⟨0, _⟩ => show (grid1.coords t 0).val * 4096 + 1 * (y 0).val = r.val; omega
  | ⟨1, _⟩ => show (T (ix8 (grid1.coords t 1)) : BitVec 32).toNat * 512 + 1 * (y 1).val = k.val; omega
theorem emb1_1 (t : Fin (cfg1 (adm1 T hT)).N) (j : Fin 512) (k : Fin 4096) (hk : (grid1.coords t 1).val * 512 + j.val = k.val) :
    ((win1 (adm1 T hT) 1).blk t).view.emb (blkIx j) = rowIx k := by
  funext a; refine Fin.ext ?_
  show (win1 (adm1 T hT) 1).index t a * (win1 (adm1 T hT) 1).size a + 1 * (blkIx j a).val = _
  rw [index1_1]
  match a with
  | ⟨0, _⟩ => rfl
  | ⟨1, _⟩ => show (grid1.coords t 1).val * 512 + 1 * j.val = k.val; omega
theorem emb1_2 (t : Fin (cfg1 (adm1 T hT)).N) (y : S4096x512.Idx) (r : Fin 8192) (k : Fin 4096)
    (hr : (grid1.coords t 0).val * 4096 + (y 0).val = r.val) (hk : (grid1.coords t 1).val * 512 + (y 1).val = k.val) :
    ((win1 (adm1 T hT) 2).blk t).view.emb y = wideIx r k := by
  funext a; refine Fin.ext ?_
  show (win1 (adm1 T hT) 2).index t a * (win1 (adm1 T hT) 2).size a + 1 * (y a).val = _
  rw [index1_2]
  match a with
  | ⟨0, _⟩ => show (grid1.coords t 0).val * 4096 + 1 * (y 0).val = r.val; omega
  | ⟨1, _⟩ => show (grid1.coords t 1).val * 512 + 1 * (y 1).val = k.val; omega

/-- What the body leaves at a point is the point's block of the product. -/
theorem after1_2 (c : Dev nD) (t : Fin (cfg1 (adm1 T hT)).N) (y : S4096x512.Idx) :
    k1_pay1 (xBlk V T hT c t) (mBlk V T hT c t) y = productOf T (xOf V c) (rowIn V c) (((win1 (adm1 T hT) 2).blk t).view.emb y) := by
  have h0 : (grid1.coords t 0).val < 2 := (grid1.coords t 0).isLt
  have h1 : (grid1.coords t 1).val < 8 := (grid1.coords t 1).isLt
  have y0 : (y 0).val < 4096 := (y 0).isLt
  have y1 : (y 1).val < 512 := (y 1).isLt
  have hw := hT (ix8 (grid1.coords t 1))
  rw [pay1_apply, emb1_2 T hT t y ⟨(grid1.coords t 0).val * 4096 + (y 0).val, by omega⟩ ⟨(grid1.coords t 1).val * 512 + (y 1).val, by omega⟩ rfl rfl]
  have hb : (⟨((grid1.coords t 1).val * 512 + (y 1).val) / 512, by omega⟩ : Fin 8) = grid1.coords t 1 :=
    Fin.ext (by show ((grid1.coords t 1).val * 512 + (y 1).val) / 512 = _; omega)
  have hx : xBlk V T hT c t y = xOf V c (wideIx ⟨(grid1.coords t 0).val * 4096 + (y 0).val, by omega⟩
      (srcCol T ⟨(grid1.coords t 1).val * 512 + (y 1).val, by omega⟩)) := by
    show xOf V c (((win1 (adm1 T hT) 0).blk t).view.emb y) = _
    refine congrArg _ (emb1_0 T hT t y _ _ rfl ?_)
    unfold srcCol
    dsimp only
    rw [hb]
    omega
  have hm : mBlk V T hT c t (blkIx (y 1)) = rowIn V c (rowIx ⟨(grid1.coords t 1).val * 512 + (y 1).val, by omega⟩) :=
    congrArg (rowIn V c) (emb1_1 T hT t (y 1) _ rfl)
  rw [hx, hm]
  rfl

/-- The sixteen blocks cover the product's array. -/
theorem cover1_2 (i : S8192x4096.Idx) : ∃ t : Fin (cfg1 (adm1 T hT)).N, ((cfg1 (adm1 T hT)).win 2).flush t = true
    ∧ i ∈ (((cfg1 (adm1 T hT)).win 2).blk t).view.set := by
  have i0 : (i 0).val < 8192 := (i 0).isLt
  have i1 : (i 1).val < 4096 := (i 1).isLt
  have hN : (cfg1 (adm1 T hT)).N = 16 := N_1
  let t : Fin (cfg1 (adm1 T hT)).N := ⟨(i 0).val / 4096 * 8 + (i 1).val / 512, by omega⟩
  have hc := coords1 t
  have ht : t.val = (i 0).val / 4096 * 8 + (i 1).val / 512 := rfl
  refine ⟨t, flush1_2 T hT t, ?_⟩
  let y : S4096x512.Idx := fun | ⟨0, _⟩ => (⟨(i 0).val % 4096, by omega⟩ : Fin 4096) | ⟨1, _⟩ => (⟨(i 1).val % 512, by omega⟩ : Fin 512)
  have he : ((win1 (adm1 T hT) 2).blk t).view.emb y = wideIx (i 0) (i 1) :=
    emb1_2 T hT t y (i 0) (i 1) (by rw [hc.1, ht]; show _ * 4096 + (i 0).val % 4096 = _; omega)
      (by rw [hc.2, ht]; show _ * 512 + (i 1).val % 512 = _; omega)
  have hi : wideIx (i 0) (i 1) = i := funext fun a => match a with | ⟨0, _⟩ => rfl | ⟨1, _⟩ => rfl
  rw [← hi, ← he]
  exact View.emb_mem_set _ y

/-- After the region the product's array holds the product. -/
theorem arrAt1_2 (c : Dev nD) : (dat1 V T hT c).arrAt 2 (cfg1 (adm1 T hT)).N = productOf T (xOf V c) (rowIn V c) :=
  (dat1 V T hT c).arrAt_eq_of_emb 2 (productOf T (xOf V c) (rowIn V c)) (fun t _ y => after1_2 V T hT c t y) (cover1_2 T hT)

end Cert.KernelIdeal.Hand

end
-- ==== Proof.Run.lean ====
/-
  The program's run: the host stretches and the two regions in order, from any memory whose positions name rows of the
  trails. Every buffer the program does not scope ends at what the five items make of the launch contents; read off it,
  the arguments end as launched and the result is the product.
-/
module

public import proofs.«01_k».proof.Proof.MulRegion

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-! ## What each item leaves -/

variable (m : (ℓ : Loc nD τ sig) → Buf (Elt F) ℓ)

/-- The table of columns the mask kernel makes (the program runs on one device). -/
def T (m : (ℓ : Loc nD τ sig) → Buf (Elt F) ℓ) : Vec F S8 .i32 := tableOf (V1 m) (0 : Fin 1)
theorem T_lt (ix : S8.Idx) : (T m ix : BitVec 32).toNat < 8 := colTable_lt _ ix
theorem T_eq (c : Dev nD) : tableOf (V1 m) c = T m := by
  have h : c = (0 : Fin 1) := Subsingleton.elim (α := Fin 1) c 0
  rw [h]; rfl

/-- The unscoped buffers after the mask kernel, and after the host stretch that follows it. -/
def W2 (c : Dev nD) : Valuation τ sig (Elt F) :=
  Function.update (Function.update (V1 m c) main_v2_0 (maskOf (V1 m) c)) main_v2_1 (tableOf (V1 m) c)
def W3 (c : Dev nD) : Valuation τ sig (Elt F) := StableHlo.after hostOps1 (W2 m c)

/-- What the regions leave: the mask row, the table and the product. -/
def outs : Outs (F := F) := fun _ r c =>
  Function.update (Function.update (Function.update (fun r : Ref sig .tc => m ((c : Thread nD τ).loc r)) main_v2_0 (maskOf (V1 m) c))
    main_v2_1 (tableOf (V1 m) c)) main_v5 (productOf (T m) (xOf (W3 m) c) (rowIn (W3 m) c)) r
theorem outs_mask (J : ℕ) (c : Dev nD) : outs m J main_v2_0 c = maskOf (V1 m) c := by
  unfold outs; rw [Function.update_of_ne (by decide), Function.update_of_ne (by decide), Function.update_self]
theorem outs_table (J : ℕ) (c : Dev nD) : outs m J main_v2_1 c = tableOf (V1 m) c := by
  unfold outs; rw [Function.update_of_ne (by decide), Function.update_self]
theorem outs_product (J : ℕ) (c : Dev nD) : outs m J main_v5 c = productOf (T m) (xOf (W3 m) c) (rowIn (W3 m) c) := by
  unfold outs; rw [Function.update_self]

theorem V2_eq (c : Dev nD) : V2 m (outs m) c = W2 m c := by
  unfold V2 W2; rw [outs_mask, outs_table]
theorem V3_eq (c : Dev nD) : V3 m (outs m) c = W3 m c := by
  unfold V3 W3; rw [V2_eq]

theorem V2_mask (c : Dev nD) : V2 m (outs m) c main_v2_0 = maskOf (V1 m) c := by
  rw [V2_eq]; unfold W2
  rw [Function.update_of_ne (StableHlo.devRef_ne_of_ne (by decide)), Function.update_self]
theorem V2_table (c : Dev nD) : V2 m (outs m) c main_v2_1 = tableOf (V1 m) c := by
  rw [V2_eq]; unfold W2
  rw [Function.update_self]

/-- The host stretch between the regions copies the table. -/
theorem W3_table (c : Dev nD) : W3 m c main_v4 = T m := by
  rw [← T_eq m c, ← V2_table m c, V2_eq]
  unfold W3
  after_results
  rfl

/-! ## The regions' records -/

/-- Every prefetched table admissible: the first region has none, the second the table of columns. -/
abbrev adm : (p : Fin 2) → (pcfgs (F := F) p).Adm
  | ⟨0, _⟩ => cfg0.toPCfg_adm
  | ⟨1, _⟩ => adm1 (T m) (T_lt m)

def pdats : (p : Fin 2) → (c : Dev nD) → Dat τ (Elt F) Unit ℕ (Pipeline.UD sig nD τ) ℕ (Pipeline.pin (pcfgs (F := F)) (adm m) p) c
  | ⟨0, _⟩ => dat0 (V1 m)
  | ⟨1, _⟩ => dat1 (W3 m) (T m) (T_lt m)

/-- One level, at which the staging waits sit; nobody owes anything. -/
def L : GSem nD τ sig → Finset Unit := fun g => if g.1.2 = .tc then {()} else ∅
abbrev lv : GSem nD τ sig → Unit → ℕ := fun _ _ => 0
theorem hL (g : GSem nD τ sig) (h : g.1.2 ≠ .tc) : L g = ∅ := if_neg h

theorem cut (p : Fin 2) : Pipeline.LevelCut (pcfgs (F := F)) (adm m) () L lv p (fun _ => 0) (fun _ => 0) where
  hι c w s := by unfold L; exact Finset.mem_singleton.mpr rfl
  hιb _ _ _ := le_rfl
  hD c g i h := absurd h (Nat.not_lt_zero _)

/-- What rides along beside the buffers: the generator register, and the core owing nothing. -/
abbrev E (c : Dev nD) : sProp 𝕄 := iprop((∃ r, prngReg c r) ∗ ∃ W, owes (c : Thread nD τ) (0 : CellTallies nD τ sig Unit) W)

variable (hV : ∀ (c : Dev nD) (i : Fin 30), (m ((c : Thread nD τ).loc main_arg2) (ix30 i) : BitVec 32).toNat < 4096)

include hV in
theorem hV1 (c : Dev nD) (i : Fin 30) : (posOf (V1 m) c (ix30 i) : BitVec 32).toNat < 4096 := by
  unfold posOf; rw [V1_of m c main_arg2 (by decide)]; exact hV c i

theorem arr0_sub : Pipeline.arrRefs (τ := τ) spec0 ⊆ Pipeline.ucRefs τ sig := Pipeline.arrRefs_sub_ucRefs spec0 (by decide)
theorem arr1_sub : Pipeline.arrRefs (τ := τ) spec1 ⊆ Pipeline.ucRefs τ sig := Pipeline.arrRefs_sub_ucRefs spec1 (by decide)
theorem tbl1_sub : Pipeline.tblRefs (τ := τ) pre1 ⊆ Pipeline.ucRefs τ sig \ Pipeline.arrRefs spec1 :=
  Pipeline.tblRefs_sub_ucRefs_sdiff spec1 pre1 (by decide) (by decide)
theorem H0_sub : Pipeline.hbmRefs (τ := τ) H0 ⊆ Pipeline.ucRefs τ sig \ Pipeline.arrRefs spec0 := by decide

set_option backward.isDefEq.respectTransparency.types false in
/-- The mask kernel's record: from the unscoped buffers as the first host stretch leaves them to the mask row and the table
    written. -/
def reg0 : Pipeline.RegionSeg (pcfgs (F := F)) (adm m) (pdats m) () defs₀ Variants.none L lv 0 :=
  Pipeline.RegionSeg.ofHeldDH (pcfgs (F := F)) (adm m) (pdats m) () defs₀ Variants.none L lv 0 (fun _ => 0) () osem0 ownSemFacts0 H0
    (Pipeline.ucRefs τ sig \ Pipeline.arrRefs spec0) H0_sub launch0 rfl (fun c => (body_obligation0 (V1 m) (hV1 m hV) c).loose)
    (fun _ _ => rfl) (fun _ => rfl) (fun c => (pdats m 0 c).share_full fun _ => rfl)
    (fun c => by iintro -; iapply (Transfers.MayWaits.zero (c : Thread nD τ) ()); iempintro)
    (V1 m) (V2 m (outs m))
    (fun c => by
      show _ ⊢ Pipeline.ΦD osem0 spec0 H0 (fun c b => V1 m c b) c
      rw [Pipeline.ΦD_eq]
      iintro ⟨Hr, Hp, Ho, HH, -⟩
      isplitl [Hr]; · iexact Hr
      isplitl [Hp]; · iexact Hp
      isplitl [Ho] <;> iassumption)
    (fun c => by
      show Pipeline.ΦD osem0 spec0 H0 (fun c b => V1 m c b) c ⊢ _
      rw [Pipeline.ΦD_eq]
      exact .rfl)
    (fun _ => 0) (cut m 0) (fun _ => BI.emp)
    (fun c w => rfl)
    (fun c w => by
      fin_cases w
      · exact ((dat0 (V1 m) c).arrAt_in 0 rfl _).trans (V2_of m (outs m) c main_arg2 (by decide)).symm
      · exact ((dat0 (V1 m) c).arrAt_in 1 rfl _).trans (V2_of m (outs m) c main_v0 (by decide)).symm
      · exact ((dat0 (V1 m) c).arrAt_in 2 rfl _).trans (V2_of m (outs m) c main_cst (by decide)).symm
      · exact ((dat0 (V1 m) c).arrAt_in 3 rfl _).trans (V2_of m (outs m) c main_arg3 (by decide)).symm
      · exact ((dat0 (V1 m) c).arrAt_in 4 rfl _).trans (V2_of m (outs m) c main_v1 (by decide)).symm
      · exact (arrAt0_5 (V1 m) c).trans (V2_mask m c).symm
      · exact (arrAt0_6 (V1 m) c).trans (V2_table m c).symm)

theorem V4_product (c : Dev nD) : V4 m (outs m) c main_v5 = productOf (T m) (xOf (W3 m) c) (rowIn (W3 m) c) := by
  unfold V4; rw [outs_product, Function.update_self]

set_option backward.isDefEq.respectTransparency.types false in
/-- The product kernel's record: from the unscoped buffers as the second host stretch leaves them to the product written. -/
def reg1 : Pipeline.RegionSeg (pcfgs (F := F)) (adm m) (pdats m) () defs₀ Variants.none L lv 1 :=
  Pipeline.RegionSeg.ofHeldT (pcfgs (F := F)) (adm m) (pdats m) () defs₀ Variants.none L lv 1 (fun _ => 0)
    (fun c => iprop(∃ r, prngReg c r)) (fun c => iprop(∃ r, prngReg c r)) launch1
    (fun c => (body_obligation1 (W3 m) (T m) (T_lt m) c).loose)
    (fun _ _ => rfl) (fun _ => rfl) (fun c => (pdats m 1 c).share_full fun _ => rfl)
    (fun c => .rfl) (fun c => .rfl) (fun _ => 0) (cut m 1)
    (fun c => StableHlo.held (c : Thread nD τ) ((Pipeline.ucRefs τ sig \ Pipeline.arrRefs spec1) \ Pipeline.tblRefs pre1) (V3 m (outs m) c))
    (V3 m (outs m)) (V4 m (outs m))
    (fun c w => by rw [V3_eq]; rfl)
    (fun c k => by
      fin_cases k
      exact ((congrFun (V3_eq m c) _).trans (W3_table m c)).symm)
    (fun c w => by
      fin_cases w
      · exact ((dat1 (W3 m) (T m) (T_lt m) c).arrAt_in 0 rfl _).trans ((V4_of m (outs m) c main_v3 (by decide)).trans (congrFun (V3_eq m c) _)).symm
      · exact ((dat1 (W3 m) (T m) (T_lt m) c).arrAt_in 1 rfl _).trans ((V4_of m (outs m) c main_v2_0 (by decide)).trans (congrFun (V3_eq m c) _)).symm
      · exact (arrAt1_2 (W3 m) (T m) (T_lt m) c).trans (V4_product m c).symm)
    (fun c k => by
      fin_cases k
      exact (((V4_of m (outs m) c main_v4 (by decide)).trans (congrFun (V3_eq m c) _)).trans (W3_table m c)).symm)

/-! ## Between the items -/

theorem mem_arr0 (w : Fin 7) : (Proc.devRef .tc (Pipeline.arrRef spec0 w) : DevRef τ sig) ∈ Pipeline.arrRefs (τ := τ) spec0 :=
  Finset.mem_map.mpr ⟨_, Finset.mem_image.mpr ⟨w, Finset.mem_univ _, rfl⟩, rfl⟩
theorem mem_arr1 (w : Fin 3) : (Proc.devRef .tc (Pipeline.arrRef spec1 w) : DevRef τ sig) ∈ Pipeline.arrRefs (τ := τ) spec1 :=
  Finset.mem_map.mpr ⟨_, Finset.mem_image.mpr ⟨w, Finset.mem_univ _, rfl⟩, rfl⟩

theorem hpre0 (c : Dev nD) : iprop(StableHlo.held (c : Thread nD τ) (Pipeline.ucRefs τ sig) (V1 m c) ∗ E c) ⊢ (reg0 m hV).pre c := by
  show _ ⊢ iprop(StableHlo.held (c : Thread nD τ) (Pipeline.arrRefs spec0) (V1 m c) ∗ (∃ r, prngReg c r)
    ∗ (StableHlo.held (c : Thread nD τ) (Pipeline.ucRefs τ sig \ Pipeline.arrRefs spec0) (V1 m c) ∗ BI.emp) ∗ ∃ Wd, owes (c : Thread nD τ) 0 Wd)
  rw [StableHlo.held_sub_split (c : Thread nD τ) arr0_sub]
  iintro ⟨⟨Ha, Hs⟩, Hp, HO⟩
  isplitl [Ha]; · iexact Ha
  isplitl [Hp]; · iexact Hp
  isplitl [Hs]
  · isplitl [Hs]; · iexact Hs
    iempintro
  iexact HO

theorem hpost0 (c : Dev nD) : (reg0 m hV).post c ⊢ iprop(StableHlo.held (c : Thread nD τ) (Pipeline.ucRefs τ sig) (V2 m (outs m) c) ∗ E c) := by
  show iprop(StableHlo.held (c : Thread nD τ) (Pipeline.arrRefs spec0) (V2 m (outs m) c) ∗ (∃ r, prngReg c r)
    ∗ (StableHlo.held (c : Thread nD τ) (Pipeline.ucRefs τ sig \ Pipeline.arrRefs spec0) (V1 m c) ∗ BI.emp) ∗ ∃ Wd, owes (c : Thread nD τ) 0 Wd) ⊢ _
  rw [StableHlo.held_sub_split (c : Thread nD τ) arr0_sub,
    StableHlo.held_congr (c : Thread nD τ) (S := Pipeline.ucRefs τ sig \ Pipeline.arrRefs spec0) (fun b hb => by
      have hb' := (Finset.mem_sdiff.mp hb).2
      show V1 m c b = V2 m (outs m) c b
      unfold V2
      rw [Function.update_of_ne (fun h => hb' (by rw [h]; exact mem_arr0 6)), Function.update_of_ne (fun h => hb' (by rw [h]; exact mem_arr0 5))])]
  iintro ⟨Ha, Hp, ⟨Hs, -⟩, HO⟩
  isplitl [Ha Hs]; · isplitl [Ha] <;> iassumption
  isplitl [Hp] <;> iassumption

theorem hpre1 (c : Dev nD) : iprop(StableHlo.held (c : Thread nD τ) (Pipeline.ucRefs τ sig) (V3 m (outs m) c) ∗ E c) ⊢ (reg1 m).pre c := by
  show _ ⊢ iprop(StableHlo.held (c : Thread nD τ) (Pipeline.arrRefs spec1) (V3 m (outs m) c) ∗ StableHlo.held (c : Thread nD τ) (Pipeline.tblRefs pre1) (V3 m (outs m) c)
    ∗ (∃ r, prngReg c r) ∗ StableHlo.held (c : Thread nD τ) ((Pipeline.ucRefs τ sig \ Pipeline.arrRefs spec1) \ Pipeline.tblRefs pre1) (V3 m (outs m) c)
    ∗ ∃ Wd, owes (c : Thread nD τ) 0 Wd)
  rw [StableHlo.held_sub_split (c : Thread nD τ) arr1_sub, StableHlo.held_sub_split (c : Thread nD τ) tbl1_sub]
  iintro ⟨⟨Ha, Ht, Hs⟩, Hp, HO⟩
  isplitl [Ha]; · iexact Ha
  isplitl [Ht]; · iexact Ht
  isplitl [Hp]; · iexact Hp
  isplitl [Hs] <;> iassumption

theorem hpost1 (c : Dev nD) : (reg1 m).post c ⊢ iprop(StableHlo.held (c : Thread nD τ) (Pipeline.ucRefs τ sig) (V4 m (outs m) c) ∗ E c) := by
  show iprop(StableHlo.held (c : Thread nD τ) (Pipeline.arrRefs spec1) (V4 m (outs m) c) ∗ StableHlo.held (c : Thread nD τ) (Pipeline.tblRefs pre1) (V4 m (outs m) c)
    ∗ (∃ r, prngReg c r) ∗ StableHlo.held (c : Thread nD τ) ((Pipeline.ucRefs τ sig \ Pipeline.arrRefs spec1) \ Pipeline.tblRefs pre1) (V3 m (outs m) c)
    ∗ ∃ Wd, owes (c : Thread nD τ) 0 Wd) ⊢ _
  rw [StableHlo.held_sub_split (c : Thread nD τ) arr1_sub, StableHlo.held_sub_split (c : Thread nD τ) tbl1_sub,
    StableHlo.held_congr (c : Thread nD τ) (S := (Pipeline.ucRefs τ sig \ Pipeline.arrRefs spec1) \ Pipeline.tblRefs pre1) (fun b hb => by
      have hb' := (Finset.mem_sdiff.mp (Finset.mem_sdiff.mp hb).1).2
      show V3 m (outs m) c b = V4 m (outs m) c b
      unfold V4
      rw [Function.update_of_ne (fun h => hb' (by rw [h]; exact mem_arr1 2))])]
  iintro ⟨Ha, Ht, Hp, Hs, HO⟩
  isplitl [Ha Ht Hs]
  · isplitl [Ha]; · iexact Ha
    isplitl [Ht] <;> iassumption
  isplitl [Hp] <;> iassumption

/-! ## The run -/

/-- What the pipeline library's ghost state starts as. -/
abbrev u₀ : Pipeline.UD sig nD τ :=
  (Rounds.initOf (Pipeline.cells (Pipeline.pin (pcfgs (F := F)) (adm m)) (cellOf_inj (adm m))) (Pipeline.launchToks (Pipeline.pin (pcfgs (F := F)) (adm m)) (cellOf_inj (adm m))), 1)

theorem hu₀ : (ownU (u₀ m) : sProp 𝕄) ⊢ |={Set.univ}=> iprop(BI.own (embL (Rounds.initOf (Pipeline.cells (Pipeline.pin (pcfgs (F := F)) (adm m)) (cellOf_inj (adm m)))
    (Pipeline.launchToks (Pipeline.pin (pcfgs (F := F)) (adm m)) (cellOf_inj (adm m))))) ∗ bigSep Finset.univ fun _ : Dev nD => (BI.emp : sProp 𝕄)) := by
  iintro Hu
  ihave H' := (ownU_pair _ _) $$ Hu
  icases H' with ⟨HP, -⟩
  imodintro
  isplitl [HP]; · iexact HP
  rw [BI.bigSep_emp_const]
  iempintro

theorem hE (c : Dev nD) (r : PrngReg) : iprop(unscopedSems0 c ∗ owes (c : Thread nD τ) (0 : CellTallies nD τ sig Unit) ∅
      ∗ Pipeline.launchCred (fun _ => 0) c ∗ prngReg c r ∗ BI.emp) ⊢ (E c : sProp 𝕄) := by
  iintro ⟨-, HO, -, Hp, -⟩
  isplitl [Hp]; · iexists _; iexact Hp
  iexists _; iexact HO

theorem hEs (ρ : Dev nD → PrngReg) : (bigSep Finset.univ fun c : Dev nD => iprop(unscopedSems0 c ∗ owes (c : Thread nD τ) (0 : CellTallies nD τ sig Unit) ∅
      ∗ Pipeline.launchCred (fun _ => 0) c ∗ prngReg c (ρ c) ∗ BI.emp)) ⊢ (bigSep Finset.univ E : sProp 𝕄) :=
  bigSep_mono fun c _ => hE c (ρ c)

theorem hE0 (ρ : Dev nD → PrngReg) : iprop((bigSep Finset.univ fun c : Dev nD => iprop(unscopedSems0 c ∗ owes (c : Thread nD τ) (0 : CellTallies nD τ sig Unit) ∅
      ∗ Pipeline.launchCred (fun _ => 0) c ∗ prngReg c (ρ c) ∗ BI.emp)) ∗ levAts L lv)
    ⊢ (|={Set.univ}=> bigSep Finset.univ E : sProp 𝕄) := by
  iintro ⟨H, -⟩
  ihave H' := (hEs ρ) $$ H
  imodintro
  iexact H'

include hV in
set_option backward.isDefEq.respectTransparency.types false in
/-- Every weakly fair execution of the program, from a memory whose positions name rows of the trails and with zero
    counters, terminates with every unscoped buffer at what the five items make of the launch contents and with zero
    counters. -/
theorem run (ρ : Dev nD → PrngReg) :
    θ_run defs (onTc (τ := τ) (main (F := F))) ⟨m, fun _ => 0, ρ⟩ (fun r => (∀ (c : Dev nD) (b : Ref sig .tc), (Proc.devRef .tc b : DevRef τ sig) ∈ Pipeline.ucRefs τ sig →
      r.2.mem ((c.tc : Thread nD τ).loc b) = V5 m (outs m) c b) ∧ r.2.sem = fun _ => 0) := by
  refine Pipeline.θ_run_regions_kit_dev_sems (pcfgs (F := F)) (adm m) (pdats m) () (cellOf_inj (adm m)) embL defs₀ Variants.none L lv m ρ main
    (segs m (outs m) Variants.none L lv (fun _ => E) () (adm m) (pdats m) (reg0 m hV) (reg1 m))
    (fun c Q => by
      rewrite [main_chain c, Pipeline.Seg.run_eq_chain]
      exact .rfl)
    (fun c => by simp only [segs, Pipeline.Seg.pipes_host, Pipeline.Seg.pipes_region, Pipeline.Seg.pipes_nil]; decide) (fun _ => 0) hL
    (fun _ => BI.emp) (u₀ m) (hu₀ m)
    (T₀ := fun c => iprop(StableHlo.held (c : Thread nD τ) (Pipeline.ucRefs τ sig) (V0 m c) ∗ E c))
    (Tₙ := fun c => StableHlo.held (c : Thread nD τ) (Pipeline.ucRefs τ sig) (V5 m (outs m) c))
    (hch := fun c => ⟨.rfl, hpre0 m hV c, hpost0 m hV c, hpre1 m c, hpost1 m c, sep_mono .rfl (by iintro ⟨-, HO⟩; iexact HO)⟩)
    (hinit := ?_) (QY := fun c s => ∀ b : Ref sig .tc, (Proc.devRef .tc b : DevRef τ sig) ∈ Pipeline.ucRefs τ sig →
      s.mem ((c.tc : Thread nD τ).loc b) = V5 m (outs m) c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ BI.emp))
            : sProp 𝕄) := by
      rw [← bigSep_sep']
      exact bigSep_mono fun c _ => by rw [← Pipeline.unscopedBufs_held (Ix := Unit) (Name := ℕ) (U := Pipeline.UD sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply (show (iprop((bigSep Finset.univ fun c : Dev nD => StableHlo.held (c : Thread nD τ) (Pipeline.ucRefs τ sig) (V0 m c)) ∗ bigSep Finset.univ E) : sProp 𝕄)
        ⊢ bigSep Finset.univ fun c : Dev nD => iprop(StableHlo.held (c : Thread nD τ) (Pipeline.ucRefs τ sig) (V0 m c) ∗ E c) from by
      rw [← bigSep_sep'])
    isplitl [Hh]; · iexact Hh
    iexact HE
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro; exact fun b hb => h (Proc.devRef .tc b) hb
    · iexact HSI

end Cert.KernelIdeal.Hand

end
-- ==== Proof.Ends.lean ====
/-
  What the program's run leaves, read off the buffers it ends with: its arguments as launched, its result the product
  reshaped to three axes, and no semaphore counter up.
-/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ)

/-- The result buffer ends at the product, reshaped. -/
theorem V5_result (c : Dev nD) : V5 m (outs m) c main_v6
    = (shapeCast S2x4096x4096 (productOf (T m) (xOf (W3 m) c) (rowIn (W3 m) c)) shapeCasts_S8192x4096_S2x4096x4096 : FVec F S2x4096x4096 .f32) := by
  have h : V5 m (outs m) c main_v6 = (shapeCast S2x4096x4096 (V4 m (outs m) c main_v5 : FVec F S8192x4096 .f32) shapeCasts_S8192x4096_S2x4096x4096 : FVec F S2x4096x4096 .f32) := by
    unfold V5 hostOps2
    after_results
    rfl
  rw [h, V4_product]

/-- Every weakly fair execution from positions that name rows of the trails ends with the result at the product, the
    arguments as launched and every counter at zero. -/
theorem run_result (hV : ∀ (c : Dev nD) (i : Fin 30), (m ((c : Thread nD τ).loc main_arg2) (ix30 i) : BitVec 32).toNat < 4096) (ρ : Dev nD → PrngReg) :
    θ_run defs (onTc (τ := τ) main) ⟨m, fun _ => 0, ρ⟩ (fun r => (∀ c : Dev nD,
      r.2.mem ((c.tc : Thread nD τ).loc main_v6)
        = (shapeCast S2x4096x4096 (productOf (T m) (xOf (W3 m) c) (rowIn (W3 m) c)) shapeCasts_S8192x4096_S2x4096x4096 : FVec F S2x4096x4096 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) := by
  refine (θ_run defs _ _).mono (fun r hr => ⟨fun c => ?_, hr.2⟩) (run m hV ρ)
  have h := hr.1
  exact ⟨(h c main_v6 (Finset.mem_filter.mpr ⟨StableHlo.devRef_mem_tcRefs main_v6, by decide⟩)).trans (V5_result m c),
      (h c main_arg0 (Finset.mem_filter.mpr ⟨StableHlo.devRef_mem_tcRefs main_arg0, by decide⟩)).trans (V5_main_arg0 m (outs m) c),
      (h c main_arg1 (Finset.mem_filter.mpr ⟨StableHlo.devRef_mem_tcRefs main_arg1, by decide⟩)).trans (V5_main_arg1 m (outs m) c),
      (h c main_arg2 (Finset.mem_filter.mpr ⟨StableHlo.devRef_mem_tcRefs main_arg2, by decide⟩)).trans (V5_main_arg2 m (outs m) c),
      (h c main_arg3 (Finset.mem_filter.mpr ⟨StableHlo.devRef_mem_tcRefs main_arg3, by decide⟩)).trans (V5_main_arg3 m (outs m) c),
      (h c main_arg4 (Finset.mem_filter.mpr ⟨StableHlo.devRef_mem_tcRefs main_arg4, by decide⟩)).trans (V5_main_arg4 m (outs m) c),
      (h c main_arg5 (Finset.mem_filter.mpr ⟨StableHlo.devRef_mem_tcRefs main_arg5, by decide⟩)).trans (V5_main_arg5 m (outs m) c),
      (h c main_arg6 (Finset.mem_filter.mpr ⟨StableHlo.devRef_mem_tcRefs main_arg6, by decide⟩)).trans (V5_main_arg6 m (outs m) c),
      (h c main_arg7 (Finset.mem_filter.mpr ⟨StableHlo.devRef_mem_tcRefs main_arg7, by decide⟩)).trans (V5_main_arg7 m (outs m) c)⟩

end Cert.KernelIdeal.Hand

end
-- ==== Proof.RefOps.lean ====
/-
  The reference as a straight line: the program's host operations with its helper functions written in place, cut into ten
  stretches, and what each stretch computes, stated as a plain function of the arrays it reads.
-/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## The operations -/

/-- The operations that make the softmax of the trails. -/
abbrev opsProbs : List (HloOp τ sig (Elt F)) :=
  [ nullary main_cst (fun i => FloatOps.ofBits .f32 (lit0 (S30x4096.rowMajor i))),
    nullary main_cst_0 (constant S_ .f32 0xFF800000#32),
    binary main_arg1 main_cst_0 main_v0 ((fun x v => Host.reduce FloatOps.maximumf x v reducesTo_S4096x4096_S4096_d1 h_S_) : FVec F S4096x4096 .f32 → FVec F S_ .f32 → FVec F S4096 .f32),
    nullary main_cst_1 (constant S_ .f32 0xFF800000#32),
    unary main_cst_1 main_v1 (broadcastInDim S4096 ![] bcast_S_S4096 : FVec F S_ .f32 → FVec F S4096 .f32),
    binary main_v1 main_v0 main_v2 (maximumf : FVec F S4096 .f32 → FVec F S4096 .f32 → FVec F S4096 .f32),
    unary main_v2 main_v3 (broadcastInDim S4096x1 ![0] bcast_S4096_S4096x1_0 : FVec F S4096 .f32 → FVec F S4096x1 .f32),
    unary main_v3 main_v4 (broadcastInDim S4096x4096 ![0, 1] bcast_S4096x1_S4096x4096_0_1 : FVec F S4096x1 .f32 → FVec F S4096x4096 .f32),
    binary main_arg1 main_v4 main_v5 (subf : FVec F S4096x4096 .f32 → FVec F S4096x4096 .f32 → FVec F S4096x4096 .f32),
    unary main_v5 main_v6 (Host.exp : FVec F S4096x4096 .f32 → FVec F S4096x4096 .f32),
    nullary main_cst_2 (constant S_ .f32 0x00000000#32),
    binary main_v6 main_cst_2 main_v7 ((fun x v => Host.reduceAdd x v reducesTo_S4096x4096_S4096_d1 h_S_) : FVec F S4096x4096 .f32 → FVec F S_ .f32 → FVec F S4096 .f32),
    unary main_v7 main_v8 (broadcastInDim S4096x1 ![0] bcast_S4096_S4096x1_0 : FVec F S4096 .f32 → FVec F S4096x1 .f32),
    unary main_v8 main_v9 (broadcastInDim S4096x4096 ![0, 1] bcast_S4096x1_S4096x4096_0_1 : FVec F S4096x1 .f32 → FVec F S4096x4096 .f32),
    binary main_v6 main_v9 main_v10 (Host.divf : FVec F S4096x4096 .f32 → FVec F S4096x4096 .f32 → FVec F S4096x4096 .f32) ]
abbrev WProbs : List (Ref sig .tc) := [main_cst, main_cst_0, main_v0, main_cst_1, main_v1, main_v2, main_v3, main_v4, main_v5, main_v6, main_cst_2, main_v7, main_v8, main_v9, main_v10]
/-- The operations that make the ants' rows of it. -/
abbrev opsTake : List (HloOp τ sig (Elt F)) :=
  [ nullary main_call0_c ((constantI S_ 32 0#32) : IVec S_ 32),
    unary main_call0_c main_call0_v0 ((broadcastInDim S30 ![] bcast_S_S30) : IVec S_ 32 → IVec S30 32),
    binary main_arg2 main_call0_v0 main_call0_v1 ((cmpi .slt) : IVec S30 32 → IVec S30 32 → IVec S30 1),
    nullary main_call0_c_0 ((constantI S_ 32 4096#32) : IVec S_ 32),
    unary main_call0_c_0 main_call0_v2 ((broadcastInDim S30 ![] bcast_S_S30) : IVec S_ 32 → IVec S30 32),
    binary main_arg2 main_call0_v2 main_call0_v3 (addi : IVec S30 32 → IVec S30 32 → IVec S30 32),
    ternary main_call0_v1 main_call0_v3 main_arg2 main_call0_v4 (select : IVec S30 1 → IVec S30 32 → IVec S30 32 → IVec S30 32),
    unary main_call0_v4 main_call0_v5 ((broadcastInDim S30x1 ![0] bcast_S30_S30x1_0) : IVec S30 32 → IVec S30x1 32),
    nullary main_call0_c_1 ((constantI S1 32 4095#32) : IVec S1 32),
    nullary main_call0_c_2 ((constantI S_ 32 0#32) : IVec S_ 32),
    unary main_call0_c_2 main_call0_v6 ((broadcastInDim S30x1 ![] bcast_S_S30x1) : IVec S_ 32 → IVec S30x1 32),
    binary main_call0_v5 main_call0_v6 main_call0_v7 ((cmpi .sge) : IVec S30x1 32 → IVec S30x1 32 → IVec S30x1 1),
    unary main_call0_c_1 main_call0_v8 ((broadcastInDim S1x1 ![1] bcast_S1_S1x1_1) : IVec S1 32 → IVec S1x1 32),
    unary main_call0_v8 main_call0_v9 ((broadcastInDim S30x1 ![0, 1] bcast_S1x1_S30x1_0_1) : IVec S1x1 32 → IVec S30x1 32),
    binary main_call0_v5 main_call0_v9 main_call0_v10 ((cmpi .sle) : IVec S30x1 32 → IVec S30x1 32 → IVec S30x1 1),
    binary main_call0_v7 main_call0_v10 main_call0_v11 (andi : IVec S30x1 1 → IVec S30x1 1 → IVec S30x1 1),
    nullary main_call0_c_3 ((constantI S_ 1 1#1) : IVec S_ 1),
    binary main_call0_v11 main_call0_c_3 main_call0_v12 ((fun x v => Host.reduce IntOp.andi x v reducesTo_S30x1_S30_d1 h_S_) : IVec S30x1 1 → IVec S_ 1 → IVec S30 1),
    binary main_v10 main_call0_v5 main_call0_v13 ((fun x i => Host.gather gather_S4096x4096_S30x1_S30x4096_1_0_n_n_0_1_14096 x i) : FVec F S4096x4096 .f32 → IVec S30x1 32 → FVec F S30x4096 .f32),
    unary main_call0_v12 main_call0_v14 ((broadcastInDim S30x4096 ![0] bcast_S30_S30x4096_0) : IVec S30 1 → IVec S30x4096 1),
    nullary main_call0_cst ((constant S_ .f32 0x7FC00000#32) : FVec F S_ .f32),
    unary main_call0_cst main_call0_v15 ((broadcastInDim S30x4096 ![] bcast_S_S30x4096) : FVec F S_ .f32 → FVec F S30x4096 .f32),
    ternary main_call0_v14 main_call0_v13 main_call0_v15 main_v11 (select : IVec S30x4096 1 → FVec F S30x4096 .f32 → FVec F S30x4096 .f32 → FVec F S30x4096 .f32) ]
abbrev WTake : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v11]
/-- The operations that make the drawn column of each ant. -/
abbrev opsNext : List (HloOp τ sig (Elt F)) :=
  [ nullary main_cst_3 (constant S_ .f32 0x1E3CE508#32),
    unary main_cst_3 main_v12 (broadcastInDim S30x4096 ![] bcast_S_S30x4096 : FVec F S_ .f32 → FVec F S30x4096 .f32),
    binary main_v11 main_v12 main_v13 (addf : FVec F S30x4096 .f32 → FVec F S30x4096 .f32 → FVec F S30x4096 .f32),
    unary main_v13 main_v14 (Host.log : FVec F S30x4096 .f32 → FVec F S30x4096 .f32),
    binary main_cst main_v14 main_v15 (addf : FVec F S30x4096 .f32 → FVec F S30x4096 .f32 → FVec F S30x4096 .f32),
    nullary main_call1_v0 ((iotaInDim S30x4096 32 1) : IVec S30x4096 32),
    nullary main_call1_cst ((constant S_ .f32 0xFF800000#32) : FVec F S_ .f32),
    nullary main_call1_c ((constantI S_ 32 0#32) : IVec S_ 32),
    quaternary main_v15 main_call1_v0 main_call1_cst main_call1_c main_call1_v1_0 ((fun x y u v j => (Host.argReduce reducer_argmax_f32_i32 x y u v reducesTo_S30x4096_S30_d1 h_S_ j).1) : FVec F S30x4096 .f32 → IVec S30x4096 32 → FVec F S_ .f32 → IVec S_ 32 → FVec F S30 .f32),
    quaternary main_v15 main_call1_v0 main_call1_cst main_call1_c main_v16 ((fun x y u v j => (Host.argReduce reducer_argmax_f32_i32 x y u v reducesTo_S30x4096_S30_d1 h_S_ j).2) : FVec F S30x4096 .f32 → IVec S30x4096 32 → FVec F S_ .f32 → IVec S_ 32 → IVec S30 32) ]
abbrev WNext : List (Ref sig .tc) := [main_cst_3, main_v12, main_v13, main_v14, main_v15, main_call1_v0, main_call1_cst, main_call1_c, main_call1_v1_0, main_v16]
/-- The operations that make the paths with the drawn columns visited. -/
abbrev opsPaths : List (HloOp τ sig (Elt F)) :=
  [ nullary main_v17 (iotaInDim S30 32 0),
    nullary main_c (constantI S_ 32 0#32),
    unary main_c main_v18 (broadcastInDim S30 ![] bcast_S_S30 : IVec S_ 32 → IVec S30 32),
    binary main_v17 main_v18 main_v19 (cmpi .slt : IVec S30 32 → IVec S30 32 → IVec S30 1),
    nullary main_c_4 (constantI S_ 32 30#32),
    unary main_c_4 main_v20 (broadcastInDim S30 ![] bcast_S_S30 : IVec S_ 32 → IVec S30 32),
    binary main_v17 main_v20 main_v21 (addi : IVec S30 32 → IVec S30 32 → IVec S30 32),
    ternary main_v19 main_v21 main_v17 main_v22 (select : IVec S30 1 → IVec S30 32 → IVec S30 32 → IVec S30 32),
    nullary main_c_5 (constantI S_ 32 0#32),
    unary main_c_5 main_v23 (broadcastInDim S30 ![] bcast_S_S30 : IVec S_ 32 → IVec S30 32),
    binary main_v16 main_v23 main_v24 (cmpi .slt : IVec S30 32 → IVec S30 32 → IVec S30 1),
    nullary main_c_6 (constantI S_ 32 4096#32),
    unary main_c_6 main_v25 (broadcastInDim S30 ![] bcast_S_S30 : IVec S_ 32 → IVec S30 32),
    binary main_v16 main_v25 main_v26 (addi : IVec S30 32 → IVec S30 32 → IVec S30 32),
    ternary main_v24 main_v26 main_v16 main_v27 (select : IVec S30 1 → IVec S30 32 → IVec S30 32 → IVec S30 32),
    unary main_v22 main_v28 (broadcastInDim S30x1 ![0] bcast_S30_S30x1_0 : IVec S30 32 → IVec S30x1 32),
    unary main_v27 main_v29 (broadcastInDim S30x1 ![0] bcast_S30_S30x1_0 : IVec S30 32 → IVec S30x1 32),
    binary main_v28 main_v29 main_v30 ((fun a b => concatenate S30x2 1 [⟨S30x1, a⟩, ⟨S30x1, b⟩] concatenates_S30x1_S30x1_S30x2_d1) : IVec S30x1 32 → IVec S30x1 32 → IVec S30x2 32),
    nullary main_cst_7 (constant S_ .f32 0x3F800000#32),
    unary main_cst_7 main_v31 (broadcastInDim S30 ![] bcast_S_S30 : FVec F S_ .f32 → FVec F S30 .f32),
    ternary main_arg3 main_v30 main_v31 main_v32 ((fun x i u => Host.scatter scatter_S30x4096_S30x2_S30_n_01_01_1 (fun _ b => b) x i u) : FVec F S30x4096 .f32 → IVec S30x2 32 → FVec F S30 .f32 → FVec F S30x4096 .f32) ]
abbrev WPaths : List (Ref sig .tc) := [main_v17, main_c, main_v18, main_v19, main_c_4, main_v20, main_v21, main_v22, main_c_5, main_v23, main_v24, main_c_6, main_v25, main_v26, main_v27, main_v28, main_v29, main_v30, main_cst_7, main_v31, main_v32]
/-- The operations that make their lengths and the shortest. -/
abbrev opsBest : List (HloOp τ sig (Elt F)) :=
  [ binary main_v32 main_v32 main_call2_v0 (mulf : FVec F S30x4096 .f32 → FVec F S30x4096 .f32 → FVec F S30x4096 .f32),
    nullary main_call2_cst ((constant S_ .f32 0x00000000#32) : FVec F S_ .f32),
    binary main_call2_v0 main_call2_cst main_call2_v1 ((fun x v => Host.reduceAdd x v reducesTo_S30x4096_S30_d1 h_S_) : FVec F S30x4096 .f32 → FVec F S_ .f32 → FVec F S30 .f32),
    unary main_call2_v1 main_v33 (Host.sqrt : FVec F S30 .f32 → FVec F S30 .f32),
    nullary main_call3_v0 ((iotaInDim S30 32 0) : IVec S30 32),
    nullary main_call3_cst ((constant S_ .f32 0x7F800000#32) : FVec F S_ .f32),
    nullary main_call3_c ((constantI S_ 32 0#32) : IVec S_ 32),
    quaternary main_v33 main_call3_v0 main_call3_cst main_call3_c main_call3_v1_0 ((fun x y u v j => (Host.argReduce reducer_argmin_f32_i32 x y u v reducesTo_S30_S_d0 h_S_ j).1) : FVec F S30 .f32 → IVec S30 32 → FVec F S_ .f32 → IVec S_ 32 → FVec F S_ .f32),
    quaternary main_v33 main_call3_v0 main_call3_cst main_call3_c main_v34 ((fun x y u v j => (Host.argReduce reducer_argmin_f32_i32 x y u v reducesTo_S30_S_d0 h_S_ j).2) : FVec F S30 .f32 → IVec S30 32 → FVec F S_ .f32 → IVec S_ 32 → IVec S_ 32) ]
abbrev WBest : List (Ref sig .tc) := [main_call2_v0, main_call2_cst, main_call2_v1, main_v33, main_call3_v0, main_call3_cst, main_call3_c, main_call3_v1_0, main_v34]
/-- The operations that make the row that scales the input. -/
abbrev opsAnt : List (HloOp τ sig (Elt F)) :=
  [ nullary main_c_8 (constantI S_ 32 0#32),
    binary main_v34 main_c_8 main_v35 (cmpi .slt : IVec S_ 32 → IVec S_ 32 → IVec S_ 1),
    nullary main_c_9 (constantI S_ 32 30#32),
    binary main_v34 main_c_9 main_v36 (addi : IVec S_ 32 → IVec S_ 32 → IVec S_ 32),
    ternary main_v35 main_v36 main_v34 main_v37 (select : IVec S_ 1 → IVec S_ 32 → IVec S_ 32 → IVec S_ 32) ]
abbrev WAnt : List (Ref sig .tc) := [main_c_8, main_v35, main_c_9, main_v36, main_v37]
abbrev opsBetter : List (HloOp τ sig (Elt F)) :=
  [ unaryIndexed main_v33 ![main_v37] ⟨S_, .i32⟩ main_v38 ((fun x i => Host.dynamicSlice S1 x (fun k => (i k (Shape.Idx.first h_S_)).toInt) sliceFits_S30_S1) : FVec F S30 .f32 → (Fin 1 → IVec S_ 32) → FVec F S1 .f32),
    reshape main_v38 main_v39 (rfl : (.f32 : EltTy) = .f32) shapeCasts_S1_S_,
    binary main_v39 main_arg5 main_v40 (cmpf .olt : FVec F S_ .f32 → FVec F S_ .f32 → IVec S_ 1) ]
abbrev WBetter : List (Ref sig .tc) := [main_v38, main_v39, main_v40]

abbrev opsAt : List (HloOp τ sig (Elt F)) :=
  [ nullary main_c_10 (constantI S_ 32 0#32),
    binary main_v34 main_c_10 main_v41 (cmpi .slt : IVec S_ 32 → IVec S_ 32 → IVec S_ 1),
    nullary main_c_11 (constantI S_ 32 30#32),
    binary main_v34 main_c_11 main_v42 (addi : IVec S_ 32 → IVec S_ 32 → IVec S_ 32),
    ternary main_v41 main_v42 main_v34 main_v43 (select : IVec S_ 1 → IVec S_ 32 → IVec S_ 32 → IVec S_ 32),
    nullary main_c_12 (constantI S_ 32 0#32),
    nullary main_c_13 (constantI S_ 32 0#32),
    binary main_c_12 main_c_13 main_v44 (cmpi .slt : IVec S_ 32 → IVec S_ 32 → IVec S_ 1),
    nullary main_c_14 (constantI S_ 32 0#32),
    nullary main_c_15 (constantI S_ 32 4096#32),
    binary main_c_14 main_c_15 main_v45 (addi : IVec S_ 32 → IVec S_ 32 → IVec S_ 32),
    nullary main_c_16 (constantI S_ 32 0#32),
    ternary main_v44 main_v45 main_c_16 main_v46 (select : IVec S_ 1 → IVec S_ 32 → IVec S_ 32 → IVec S_ 32) ]
abbrev WAt : List (Ref sig .tc) := [main_c_10, main_v41, main_c_11, main_v42, main_v43, main_c_12, main_c_13, main_v44, main_c_14, main_c_15, main_v45, main_c_16, main_v46]

abbrev opsMask : List (HloOp τ sig (Elt F)) :=
  [ unaryIndexed main_v32 ![main_v43, main_v46] ⟨S_, .i32⟩ main_v47 ((fun x i => Host.dynamicSlice S1x4096 x (fun k => (i k (Shape.Idx.first h_S_)).toInt) sliceFits_S30x4096_S1x4096) : FVec F S30x4096 .f32 → (Fin 2 → IVec S_ 32) → FVec F S1x4096 .f32),
    reshape main_v47 main_v48 (rfl : (.f32 : EltTy) = .f32) shapeCasts_S1x4096_S4096,
    ternary main_v40 main_v48 main_arg4 main_v49 ((fun p a b => select (broadcastInDim S4096 ![] bcast_S_S4096 p) a b) : IVec S_ 1 → FVec F S4096 .f32 → FVec F S4096 .f32 → FVec F S4096 .f32) ]
abbrev WMask : List (Ref sig .tc) := [main_v47, main_v48, main_v49]
/-- The operations that make the scaled input. -/
abbrev opsOut : List (HloOp τ sig (Elt F)) :=
  [ unary main_v49 main_v50 (broadcastInDim S1x1x4096 ![2] bcast_S4096_S1x1x4096_2 : FVec F S4096 .f32 → FVec F S1x1x4096 .f32),
    unary main_v50 main_v51 (broadcastInDim S2x4096x4096 ![0, 1, 2] bcast_S1x1x4096_S2x4096x4096_0_1_2 : FVec F S1x1x4096 .f32 → FVec F S2x4096x4096 .f32),
    binary main_arg0 main_v51 main_v52 (mulf : FVec F S2x4096x4096 .f32 → FVec F S2x4096x4096 .f32 → FVec F S2x4096x4096 .f32) ]
abbrev WOut : List (Ref sig .tc) := [main_v50, main_v51, main_v52]

/-- The whole program's operations. -/
abbrev ops : List (HloOp τ sig (Elt F)) := opsProbs ++ (opsTake ++ (opsNext ++ (opsPaths ++ (opsBest ++ (opsAnt ++ (opsBetter ++ (opsAt ++ (opsMask ++ opsOut))))))))

set_option maxHeartbeats 4000000 in
/-- The program is that straight line. -/
theorem main_eq (c : Dev nD) : main (F := F) c = seq ops := rfl

/-! ## The value of each stretch -/

/-- The draw's noise. -/
def noise : FVec F S30x4096 .f32 := fun i => FloatOps.ofBits .f32 (lit0 (S30x4096.rowMajor i))

/-- Each row's largest entry, spread over the row. -/
def topOf (t : FVec F S4096x4096 .f32) : FVec F S4096x4096 .f32 :=
  broadcastInDim S4096x4096 ![0, 1] bcast_S4096x1_S4096x4096_0_1 (broadcastInDim S4096x1 ![0] bcast_S4096_S4096x1_0
    (maximumf (broadcastInDim S4096 ![] bcast_S_S4096 (constant S_ .f32 0xFF800000#32))
      (Host.reduce FloatOps.maximumf t (constant S_ .f32 0xFF800000#32) reducesTo_S4096x4096_S4096_d1 h_S_)))
/-- The exponentials of the trails less their row's largest. -/
def expOf (t : FVec F S4096x4096 .f32) : FVec F S4096x4096 .f32 := Host.exp (subf t (topOf t))
/-- The softmax of each row. -/
def probsOf (t : FVec F S4096x4096 .f32) : FVec F S4096x4096 .f32 :=
  Host.divf (expOf t) (broadcastInDim S4096x4096 ![0, 1] bcast_S4096x1_S4096x4096_0_1 (broadcastInDim S4096x1 ![0] bcast_S4096_S4096x1_0
    (Host.reduceAdd (expOf t) (constant S_ .f32 0x00000000#32) reducesTo_S4096x4096_S4096_d1 h_S_)))

/-- The positions as a column of row numbers, a negative one counted from the end. -/
def rowsAt (pos : IVec S30 32) : IVec S30x1 32 :=
  broadcastInDim S30x1 ![0] bcast_S30_S30x1_0
    (select (cmpi .slt pos (broadcastInDim S30 ![] bcast_S_S30 (constantI S_ 32 0#32)))
      (addi pos (broadcastInDim S30 ![] bcast_S_S30 (constantI S_ 32 4096#32))) pos)
/-- Whether each of them names a row. -/
def inRange (i : IVec S30x1 32) : IVec S30 1 :=
  Host.reduce IntOp.andi
    (andi (cmpi .sge i (broadcastInDim S30x1 ![] bcast_S_S30x1 (constantI S_ 32 0#32)))
      (cmpi .sle i (broadcastInDim S30x1 ![0, 1] bcast_S1x1_S30x1_0_1 (broadcastInDim S1x1 ![1] bcast_S1_S1x1_1 (constantI S1 32 4095#32)))))
    (constantI S_ 1 1#1) reducesTo_S30x1_S30_d1 h_S_
/-- The rows a position names. -/
def takeOf (p : FVec F S4096x4096 .f32) (pos : IVec S30 32) : FVec F S30x4096 .f32 :=
  select (broadcastInDim S30x4096 ![0] bcast_S30_S30x4096_0 (inRange (rowsAt pos)))
    (Host.gather gather_S4096x4096_S30x1_S30x4096_1_0_n_n_0_1_14096 p (rowsAt pos))
    (broadcastInDim S30x4096 ![] bcast_S_S30x4096 (constant S_ .f32 0x7FC00000#32))

/-- The scores of the draw: noise plus the logarithm of the probability plus 1e-20. -/
def scoresOf (n r : FVec F S30x4096 .f32) : FVec F S30x4096 .f32 :=
  addf n (Host.log (addf r (broadcastInDim S30x4096 ![] bcast_S_S30x4096 (constant S_ .f32 0x1E3CE508#32))))
/-- The column of each row's largest score. -/
def argmaxOf (s : FVec F S30x4096 .f32) : IVec S30 32 := fun j =>
  (Host.argReduce reducer_argmax_f32_i32 s (iotaInDim S30x4096 32 1) (constant S_ .f32 0xFF800000#32) (constantI S_ 32 0#32)
    reducesTo_S30x4096_S30_d1 h_S_ j).2

/-- The ants' numbers, a negative one counted from the end. -/
def antNumbers : IVec S30 32 :=
  select (cmpi .slt (iotaInDim S30 32 0) (broadcastInDim S30 ![] bcast_S_S30 (constantI S_ 32 0#32)))
    (addi (iotaInDim S30 32 0) (broadcastInDim S30 ![] bcast_S_S30 (constantI S_ 32 30#32))) (iotaInDim S30 32 0)
/-- The drawn columns, a negative one counted from the end. -/
def columns (nxt : IVec S30 32) : IVec S30 32 :=
  select (cmpi .slt nxt (broadcastInDim S30 ![] bcast_S_S30 (constantI S_ 32 0#32)))
    (addi nxt (broadcastInDim S30 ![] bcast_S_S30 (constantI S_ 32 4096#32))) nxt
/-- The paths with a one written at each ant's drawn column. -/
def visited (ap : FVec F S30x4096 .f32) (nxt : IVec S30 32) : FVec F S30x4096 .f32 :=
  Host.scatter scatter_S30x4096_S30x2_S30_n_01_01_1 (fun _ b => b) ap
    (concatenate S30x2 1 [⟨S30x1, broadcastInDim S30x1 ![0] bcast_S30_S30x1_0 antNumbers⟩, ⟨S30x1, broadcastInDim S30x1 ![0] bcast_S30_S30x1_0 (columns nxt)⟩]
      concatenates_S30x1_S30x1_S30x2_d1)
    (broadcastInDim S30 ![] bcast_S_S30 (constant S_ .f32 0x3F800000#32))

/-- The Euclidean length of each row. -/
def lensOf (np : FVec F S30x4096 .f32) : FVec F S30 .f32 :=
  Host.sqrt (Host.reduceAdd (mulf np np) (constant S_ .f32 0x00000000#32) reducesTo_S30x4096_S30_d1 h_S_)
/-- The first shortest. -/
def argminOf (l : FVec F S30 .f32) : IVec S_ 32 := fun j =>
  (Host.argReduce reducer_argmin_f32_i32 l (iotaInDim S30 32 0) (constant S_ .f32 0x7F800000#32) (constantI S_ 32 0#32)
    reducesTo_S30_S_d0 h_S_ j).2

/-- A row number, a negative one counted from the end. -/
def antAt (best : IVec S_ 32) : IVec S_ 32 := select (cmpi .slt best (constantI S_ 32 0#32)) (addi best (constantI S_ 32 30#32)) best
/-- Column zero, written as the program writes it. -/
def colZero : IVec S_ 32 := select (cmpi .slt (constantI S_ 32 0#32) (constantI S_ 32 0#32)) (addi (constantI S_ 32 0#32) (constantI S_ 32 4096#32)) (constantI S_ 32 0#32)
/-- Whether the path of the ant of that number is shorter than the best so far. -/
def betterOf (l : FVec F S30 .f32) (a : IVec S_ 32) (blen : FVec F S_ .f32) : IVec S_ 1 :=
  cmpf .olt (shapeCast S_ (Host.dynamicSlice S1 l (fun _ => (a (Shape.Idx.first h_S_)).toInt) sliceFits_S30_S1) shapeCasts_S1_S_) blen
/-- The row of the paths at a row and column number. -/
def rowAt (np : FVec F S30x4096 .f32) (a z : IVec S_ 32) : FVec F S4096 .f32 :=
  shapeCast S4096 (Host.dynamicSlice S1x4096 np (fun k => ((![a, z] : Fin 2 → IVec S_ 32) k (Shape.Idx.first h_S_)).toInt) sliceFits_S30x4096_S1x4096)
    shapeCasts_S1x4096_S4096
/-- The row that scales the input. -/
def maskOf (np : FVec F S30x4096 .f32) (l : FVec F S30 .f32) (best : IVec S_ 32) (blen : FVec F S_ .f32) (bp : FVec F S4096 .f32) : FVec F S4096 .f32 :=
  select (broadcastInDim S4096 ![] bcast_S_S4096 (betterOf l (antAt best) blen)) (rowAt np (antAt best) colZero) bp
/-- The scaled input. -/
def outOf (x : FVec F S2x4096x4096 .f32) (mask : FVec F S4096 .f32) : FVec F S2x4096x4096 .f32 :=
  mulf x (broadcastInDim S2x4096x4096 ![0, 1, 2] bcast_S1x1x4096_S2x4096x4096_0_1_2 (broadcastInDim S1x1x4096 ![2] bcast_S4096_S1x1x4096_2 mask))

end Cert.ReferenceIdeal.Hand

end
-- ==== Proof.RefRun.lean ====
/-
  The reference's run: each stretch of the straight line (RefOps) leaves the array its function names, the arguments end as
  launched, and the result is the composition of the ten.
-/
module

public import proofs.«01_k».proof.Proof.RefOps
public import Idealize.ShloMosaic.Lib.StableHlo.Run
public import Idealize.ShloMosaic.Lib.Pipeline.Frame
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## The stretches leave those values -/

theorem after_probs (V : Valuation τ sig (Elt F)) : after opsProbs V (main_v10 : DevRef τ sig) = probsOf (V (main_arg1 : DevRef τ sig)) := by
  after_results
  rfl
theorem after_noise (V : Valuation τ sig (Elt F)) : after opsProbs V (main_cst : DevRef τ sig) = noise := by
  after_results
  rfl
theorem after_take (V : Valuation τ sig (Elt F)) :
    after opsTake V (main_v11 : DevRef τ sig) = takeOf (V (main_v10 : DevRef τ sig)) (V (main_arg2 : DevRef τ sig)) := by
  after_results
  rfl
theorem after_next (V : Valuation τ sig (Elt F)) :
    after opsNext V (main_v16 : DevRef τ sig) = argmaxOf (scoresOf (V (main_cst : DevRef τ sig)) (V (main_v11 : DevRef τ sig))) := by
  after_results
  rfl
theorem after_paths (V : Valuation τ sig (Elt F)) :
    after opsPaths V (main_v32 : DevRef τ sig) = visited (V (main_arg3 : DevRef τ sig)) (V (main_v16 : DevRef τ sig)) := by
  after_results
  rfl
theorem after_lens (V : Valuation τ sig (Elt F)) : after opsBest V (main_v33 : DevRef τ sig) = lensOf (V (main_v32 : DevRef τ sig)) := by
  after_results
  rfl
theorem after_best (V : Valuation τ sig (Elt F)) : after opsBest V (main_v34 : DevRef τ sig) = argminOf (lensOf (V (main_v32 : DevRef τ sig))) := by
  after_results
  rfl
theorem after_ant1 (V : Valuation τ sig (Elt F)) : after opsAnt V (main_v37 : DevRef τ sig) = antAt (V (main_v34 : DevRef τ sig)) := by
  after_results_simp
  rfl
theorem after_better (V : Valuation τ sig (Elt F)) :
    after opsBetter V (main_v40 : DevRef τ sig) = betterOf (V (main_v33 : DevRef τ sig)) (V (main_v37 : DevRef τ sig)) (V (main_arg5 : DevRef τ sig)) := by
  rw [opsBetter]
  simp only [after_cons, after_nil]
  rw [binary_result, reshape_result, unaryIndexed_result, reshape_result_ne (r := main_arg5),
    unaryIndexed_result_ne (r := main_arg5)]
  · refine congrArg (fun z => cmpf .olt (shapeCast S_ (Host.dynamicSlice S1 (V (main_v33 : DevRef τ sig)) z sliceFits_S30_S1) shapeCasts_S1_S_) (V (main_arg5 : DevRef τ sig))) (funext fun k => ?_)
    fin_cases k
    rfl
  all_goals decide
theorem after_ant (V : Valuation τ sig (Elt F)) : after opsAt V (main_v43 : DevRef τ sig) = antAt (V (main_v34 : DevRef τ sig)) := by
  after_results
  rfl
theorem after_col (V : Valuation τ sig (Elt F)) : after opsAt V (main_v46 : DevRef τ sig) = colZero := by
  after_results
  rfl
theorem after_mask (V : Valuation τ sig (Elt F)) :
    after opsMask V (main_v49 : DevRef τ sig) = select (broadcastInDim S4096 ![] bcast_S_S4096 (V (main_v40 : DevRef τ sig) : IVec S_ 1))
      (rowAt (V (main_v32 : DevRef τ sig)) (V (main_v43 : DevRef τ sig)) (V (main_v46 : DevRef τ sig))) (V (main_arg4 : DevRef τ sig)) := by
  rw [opsMask]
  simp only [after_cons, after_nil]
  rw [ternary_result, reshape_result, unaryIndexed_result, reshape_result_ne (r := main_arg4),
    unaryIndexed_result_ne (r := main_arg4), reshape_result_ne (r := main_v40),
    unaryIndexed_result_ne (r := main_v40)]
  refine congrArg (fun z => select _ (shapeCast S4096 (Host.dynamicSlice S1x4096 (V (main_v32 : DevRef τ sig)) z sliceFits_S30x4096_S1x4096) shapeCasts_S1x4096_S4096) _) (funext fun k => ?_)
  · fin_cases k <;> rfl
  all_goals decide
theorem after_out (V : Valuation τ sig (Elt F)) :
    after opsOut V (main_v52 : DevRef τ sig) = outOf (V (main_arg0 : DevRef τ sig)) (V (main_v49 : DevRef τ sig)) := by
  after_results
  rfl

/-! ## What each stretch touches -/

theorem writesProbs : (opsProbs (F := F)).Forall fun op => op.writes ⊆ (WProbs.map (Proc.devRef (τ := τ) .tc)).toFinset := forall_writes_sub_of_map rfl
theorem keepProbs (V : Valuation τ sig (Elt F)) {r : Ref sig .tc} (h : r ∉ WProbs) : after opsProbs V (r : DevRef τ sig) = V (r : DevRef τ sig) :=
  after_of_writes_sub opsProbs V writesProbs h
theorem subProbs : (opsProbs (F := F)).Forall fun op => op.bufs ⊆ tcRefs τ sig :=
  ⟨nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem freshProbs : (opsProbs (F := F)).Forall fun op => op.fresh = ∅ :=
  ⟨rfl, rfl, rfl, rfl, rfl, rfl, rfl, rfl, rfl, rfl, rfl, rfl, rfl, rfl, rfl⟩
theorem writesTake : (opsTake (F := F)).Forall fun op => op.writes ⊆ (WTake.map (Proc.devRef (τ := τ) .tc)).toFinset := forall_writes_sub_of_map rfl
theorem keepTake (V : Valuation τ sig (Elt F)) {r : Ref sig .tc} (h : r ∉ WTake) : after opsTake V (r : DevRef τ sig) = V (r : DevRef τ sig) :=
  after_of_writes_sub opsTake V writesTake h
theorem subTake : (opsTake (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem freshTake : (opsTake (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩
theorem writesNext : (opsNext (F := F)).Forall fun op => op.writes ⊆ (WNext.map (Proc.devRef (τ := τ) .tc)).toFinset := forall_writes_sub_of_map rfl
theorem keepNext (V : Valuation τ sig (Elt F)) {r : Ref sig .tc} (h : r ∉ WNext) : after opsNext V (r : DevRef τ sig) = V (r : DevRef τ sig) :=
  after_of_writes_sub opsNext V writesNext h
theorem subNext : (opsNext (F := F)).Forall fun op => op.bufs ⊆ tcRefs τ sig :=
  ⟨nullary_bufs_sub .., unary_bufs_sub .., binary_bufs_sub .., unary_bufs_sub .., binary_bufs_sub .., nullary_bufs_sub .., nullary_bufs_sub .., nullary_bufs_sub .., quaternary_bufs_sub .., quaternary_bufs_sub ..⟩
theorem freshNext : (opsNext (F := F)).Forall fun op => op.fresh = ∅ :=
  ⟨rfl, rfl, rfl, rfl, rfl, rfl, rfl, rfl, rfl, rfl⟩
theorem writesPaths : (opsPaths (F := F)).Forall fun op => op.writes ⊆ (WPaths.map (Proc.devRef (τ := τ) .tc)).toFinset := forall_writes_sub_of_map rfl
theorem keepPaths (V : Valuation τ sig (Elt F)) {r : Ref sig .tc} (h : r ∉ WPaths) : after opsPaths V (r : DevRef τ sig) = V (r : DevRef τ sig) :=
  after_of_writes_sub opsPaths V writesPaths h
theorem subPaths : (opsPaths (F := F)).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub ..⟩
theorem freshPaths : (opsPaths (F := F)).Forall fun op => op.fresh = ∅ :=
  ⟨rfl, rfl, rfl, rfl, rfl, rfl, rfl, rfl, rfl, rfl, rfl, rfl, rfl, rfl, rfl, rfl, rfl, rfl, rfl, rfl, rfl⟩
theorem writesBest : (opsBest (F := F)).Forall fun op => op.writes ⊆ (WBest.map (Proc.devRef (τ := τ) .tc)).toFinset := forall_writes_sub_of_map rfl
theorem keepBest (V : Valuation τ sig (Elt F)) {r : Ref sig .tc} (h : r ∉ WBest) : after opsBest V (r : DevRef τ sig) = V (r : DevRef τ sig) :=
  after_of_writes_sub opsBest V writesBest h
theorem subBest : (opsBest (F := F)).Forall fun op => op.bufs ⊆ tcRefs τ sig :=
  ⟨binary_bufs_sub .., nullary_bufs_sub .., binary_bufs_sub .., unary_bufs_sub .., nullary_bufs_sub .., nullary_bufs_sub .., nullary_bufs_sub .., quaternary_bufs_sub .., quaternary_bufs_sub ..⟩
theorem freshBest : (opsBest (F := F)).Forall fun op => op.fresh = ∅ :=
  ⟨rfl, rfl, rfl, rfl, rfl, rfl, rfl, rfl, rfl⟩
theorem writesAnt : (opsAnt (F := F)).Forall fun op => op.writes ⊆ (WAnt.map (Proc.devRef (τ := τ) .tc)).toFinset := forall_writes_sub_of_map rfl
theorem keepAnt (V : Valuation τ sig (Elt F)) {r : Ref sig .tc} (h : r ∉ WAnt) : after opsAnt V (r : DevRef τ sig) = V (r : DevRef τ sig) :=
  after_of_writes_sub opsAnt V writesAnt h
theorem subAnt : (opsAnt (F := F)).Forall fun op => op.bufs ⊆ tcRefs τ sig :=
  ⟨nullary_bufs_sub .., binary_bufs_sub .., nullary_bufs_sub .., binary_bufs_sub .., ternary_bufs_sub ..⟩
theorem freshAnt : (opsAnt (F := F)).Forall fun op => op.fresh = ∅ :=
  ⟨rfl, rfl, rfl, rfl, rfl⟩
theorem writesBetter : (opsBetter (F := F)).Forall fun op => op.writes ⊆ (WBetter.map (Proc.devRef (τ := τ) .tc)).toFinset := forall_writes_sub_of_map rfl
theorem keepBetter (V : Valuation τ sig (Elt F)) {r : Ref sig .tc} (h : r ∉ WBetter) : after opsBetter V (r : DevRef τ sig) = V (r : DevRef τ sig) :=
  after_of_writes_sub opsBetter V writesBetter h
theorem subBetter : (opsBetter (F := F)).Forall fun op => op.bufs ⊆ tcRefs τ sig :=
  ⟨unaryIndexed_bufs_sub .., reshape_bufs_sub .., binary_bufs_sub ..⟩
theorem freshBetter : (opsBetter (F := F)).Forall fun op => op.fresh = ∅ :=
  ⟨rfl, rfl, rfl⟩
theorem writesAt : (opsAt (F := F)).Forall fun op => op.writes ⊆ (WAt.map (Proc.devRef (τ := τ) .tc)).toFinset := forall_writes_sub_of_map rfl
theorem keepAt (V : Valuation τ sig (Elt F)) {r : Ref sig .tc} (h : r ∉ WAt) : after opsAt V (r : DevRef τ sig) = V (r : DevRef τ sig) :=
  after_of_writes_sub opsAt V writesAt h
theorem subAt : (opsAt (F := F)).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub ..⟩
theorem freshAt : (opsAt (F := F)).Forall fun op => op.fresh = ∅ :=
  ⟨rfl, rfl, rfl, rfl, rfl, rfl, rfl, rfl, rfl, rfl, rfl, rfl, rfl⟩
theorem writesMask : (opsMask (F := F)).Forall fun op => op.writes ⊆ (WMask.map (Proc.devRef (τ := τ) .tc)).toFinset := forall_writes_sub_of_map rfl
theorem keepMask (V : Valuation τ sig (Elt F)) {r : Ref sig .tc} (h : r ∉ WMask) : after opsMask V (r : DevRef τ sig) = V (r : DevRef τ sig) :=
  after_of_writes_sub opsMask V writesMask h
theorem subMask : (opsMask (F := F)).Forall fun op => op.bufs ⊆ tcRefs τ sig :=
  ⟨unaryIndexed_bufs_sub .., reshape_bufs_sub .., ternary_bufs_sub ..⟩
theorem freshMask : (opsMask (F := F)).Forall fun op => op.fresh = ∅ :=
  ⟨rfl, rfl, rfl⟩
theorem writesOut : (opsOut (F := F)).Forall fun op => op.writes ⊆ (WOut.map (Proc.devRef (τ := τ) .tc)).toFinset := forall_writes_sub_of_map rfl
theorem keepOut (V : Valuation τ sig (Elt F)) {r : Ref sig .tc} (h : r ∉ WOut) : after opsOut V (r : DevRef τ sig) = V (r : DevRef τ sig) :=
  after_of_writes_sub opsOut V writesOut h
theorem subOut : (opsOut (F := F)).Forall fun op => op.bufs ⊆ tcRefs τ sig :=
  ⟨unary_bufs_sub .., unary_bufs_sub .., binary_bufs_sub ..⟩
theorem freshOut : (opsOut (F := F)).Forall fun op => op.fresh = ∅ :=
  ⟨rfl, rfl, rfl⟩
theorem ops_sub : (ops (F := F)).Forall fun op => op.bufs ⊆ tcRefs τ sig := by
  simp only [ops, List.forall_append]
  exact ⟨subProbs, subTake, subNext, subPaths, subBest, subAnt, subBetter, subAt, subMask, subOut⟩
theorem ops_fresh : (ops (F := F)).Forall fun op => op.fresh = ∅ := by
  simp only [ops, List.forall_append]
  exact ⟨freshProbs, freshTake, freshNext, freshPaths, freshBest, freshAnt, freshBetter, freshAt, freshMask, freshOut⟩

/-- The line is its stretches one after another. -/
theorem after_ops (V : Valuation τ sig (Elt F)) : after ops V = after opsOut (after opsMask (after opsAt (after opsBetter (after opsAnt (after opsBest (after opsPaths (after opsNext (after opsTake (after opsProbs V))))))))) := by
  simp only [ops, StableHlo.after_append]

/-- What no stretch writes ends as it began. -/
theorem keep (V : Valuation τ sig (Elt F)) {r : Ref sig .tc} (h : r ∉ WProbs ∧ r ∉ WTake ∧ r ∉ WNext ∧ r ∉ WPaths ∧ r ∉ WBest ∧ r ∉ WAnt ∧ r ∉ WBetter ∧ r ∉ WAt ∧ r ∉ WMask ∧ r ∉ WOut) :
    after ops V (r : DevRef τ sig) = V (r : DevRef τ sig) := by
  obtain ⟨h1, h2, h3, h4, h5, h6, h7, h8, h9, h10⟩ := h
  rw [after_ops, keepOut _ h10, keepMask _ h9, keepAt _ h8, keepBetter _ h7, keepAnt _ h6, keepBest _ h5, keepPaths _ h4, keepNext _ h3, keepTake _ h2, keepProbs _ h1]

/-- The paths with each ant's drawn column visited, of the arguments. -/
def pathsOf (t : FVec F S4096x4096 .f32) (pos : IVec S30 32) (ap : FVec F S30x4096 .f32) : FVec F S30x4096 .f32 :=
  visited ap (argmaxOf (scoresOf noise (takeOf (probsOf t) pos)))

/-- The scaling row, of the arguments. -/
def maskRef (t : FVec F S4096x4096 .f32) (pos : IVec S30 32) (ap : FVec F S30x4096 .f32) (bp : FVec F S4096 .f32) (bl : FVec F S_ .f32) : FVec F S4096 .f32 :=
  maskOf (pathsOf t pos ap) (lensOf (pathsOf t pos ap)) (argminOf (lensOf (pathsOf t pos ap))) bl bp

/-- The line's result. -/
theorem result (V : Valuation τ sig (Elt F)) :
    after ops V (main_v52 : DevRef τ sig) = outOf (V (main_arg0 : DevRef τ sig)) (maskRef (V (main_arg1 : DevRef τ sig)) (V (main_arg2 : DevRef τ sig))
      (V (main_arg3 : DevRef τ sig)) (V (main_arg4 : DevRef τ sig)) (V (main_arg5 : DevRef τ sig))) := by
  rw [after_ops, after_out, after_mask,
    keepMask _ (r := main_arg0) (by decide), keepAt _ (r := main_arg0) (by decide), keepBetter _ (r := main_arg0) (by decide), keepAnt _ (r := main_arg0) (by decide), keepBest _ (r := main_arg0) (by decide), keepPaths _ (r := main_arg0) (by decide), keepNext _ (r := main_arg0) (by decide), keepTake _ (r := main_arg0) (by decide), keepProbs _ (r := main_arg0) (by decide),
    keepAt _ (r := main_v40) (by decide), after_better, keepAnt _ (r := main_arg5) (by decide), keepBest _ (r := main_arg5) (by decide), keepPaths _ (r := main_arg5) (by decide), keepNext _ (r := main_arg5) (by decide), keepTake _ (r := main_arg5) (by decide), keepProbs _ (r := main_arg5) (by decide), after_ant1, keepAnt _ (r := main_v33) (by decide),
    after_ant, after_col, keepBetter _ (r := main_v34) (by decide), keepAnt _ (r := main_v34) (by decide), keepAt _ (r := main_v32) (by decide), keepBetter _ (r := main_v32) (by decide), keepAnt _ (r := main_v32) (by decide), keepBest _ (r := main_v32) (by decide),
    after_lens, after_best, keepAt _ (r := main_arg4) (by decide), keepBetter _ (r := main_arg4) (by decide), keepAnt _ (r := main_arg4) (by decide), keepBest _ (r := main_arg4) (by decide), keepPaths _ (r := main_arg4) (by decide), keepNext _ (r := main_arg4) (by decide), keepTake _ (r := main_arg4) (by decide), keepProbs _ (r := main_arg4) (by decide),
    after_paths, keepNext _ (r := main_arg3) (by decide), keepTake _ (r := main_arg3) (by decide), keepProbs _ (r := main_arg3) (by decide),
    after_next, keepTake _ (r := main_cst) (by decide), after_noise, after_take, after_probs, keepProbs _ (r := main_arg2) (by decide)]
  rfl

/-! ## The run -/

theorem scopedRefs_eq : (Finset.univ.filter fun b : Ref sig .tc => b.isScoped) = ∅ := by decide +kernel
theorem scopedSems_eq : (Finset.univ.filter fun sm : SemLoc sig => sm.isScoped .tc) = ∅ := by decide +kernel

/-- Every weakly fair execution of the reference ends, with no counter up, its result at `outOf … (maskRef …)` of the arguments, and its arguments as launched. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v52)
        = outOf (m ((c.tc : Thread nD τ).loc main_arg0)) (maskRef (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) := by
  refine (θ_run defs _ _).mono (fun r h => ⟨fun c => ⟨(h c main_v52).trans ((result _).trans rfl),
      (h c main_arg0).trans ((keep _ (by decide)).trans rfl), (h c main_arg1).trans ((keep _ (by decide)).trans rfl),
      (h c main_arg2).trans ((keep _ (by decide)).trans rfl), (h c main_arg3).trans ((keep _ (by decide)).trans rfl),
      (h c main_arg4).trans ((keep _ (by decide)).trans rfl), (h c main_arg5).trans ((keep _ (by decide)).trans rfl),
      (h c main_arg6).trans ((keep _ (by decide)).trans rfl), (h c main_arg7).trans ((keep _ (by decide)).trans rfl)⟩,
      sem_eq_zero_of_no_sems (by decide) r.2⟩)
    (run_seq scopedRefs_eq scopedSems_eq defs main (fun _ => ops) main_eq (fun _ => ops_sub) m ρ
      (fun _ op hop => List.forall_iff_forall_mem.mp ops_fresh op hop))

end Cert.ReferenceIdeal.Hand

end
-- ==== Proof.Draw.lean ====
/-
  The draw over real numbers. An ant takes the first column at which the score is largest. One program scores a column by
  trail plus noise; the other by noise plus the logarithm of the softmax of the trails plus a small constant. Where no trail
  lies more than 20 below the largest, and the columns whose score is within a margin of the best all have one trail, the two
  scores have the same first largest column: the constant moves a logarithm up by less than the margin, and by the same amount
  at equal trails.
-/
module

public import Idealize.ShloMosaic.PureOps.Ideal
public import Mathlib.Analysis.SpecialFunctions.Log.Basic

@[expose] public section

noncomputable section

namespace Cert.Draw

open Idealize.ShloMosaic

/-! ## First largest and first smallest -/

/-- `c` is the first index at which `s` is largest. -/
def FirstMax {n : ℕ} (s : Fin n → EReal) (c : Fin n) : Prop := (∀ k, s k ≤ s c) ∧ ∀ k, k < c → s k < s c
/-- `c` is the first index at which `s` is smallest. -/
def FirstMin {n : ℕ} (s : Fin n → EReal) (c : Fin n) : Prop := (∀ k, s c ≤ s k) ∧ ∀ k, k < c → s c < s k

theorem FirstMax.unique {n : ℕ} {s : Fin n → EReal} {c d : Fin n} (hc : FirstMax s c) (hd : FirstMax s d) : c = d := by
  rcases lt_trichotomy c d with h | h | h
  · exact absurd (hc.1 d) (not_le.2 (hd.2 c h))
  · exact h
  · exact absurd (hd.1 c) (not_le.2 (hc.2 d h))

theorem FirstMin.unique {n : ℕ} {s : Fin n → EReal} {c d : Fin n} (hc : FirstMin s c) (hd : FirstMin s d) : c = d := by
  rcases lt_trichotomy c d with h | h | h
  · exact absurd (hc.1 d) (not_le.2 (hd.2 c h))
  · exact h
  · exact absurd (hd.1 c) (not_le.2 (hc.2 d h))

/-- A strictly increasing change of the values keeps the first smallest. -/
theorem FirstMin.congr_strict {n : ℕ} {s t : Fin n → EReal} (h : ∀ i j, s i < s j ↔ t i < t j) {c : Fin n} (hc : FirstMin s c) : FirstMin t c :=
  ⟨fun k => not_lt.1 fun hk => absurd (hc.1 k) (not_le.2 ((h k c).2 hk)), fun k hk => (h c k).1 (hc.2 k hk)⟩

/-! ## The two scores -/

/-- Trails at most 20 below the largest, each of the near ones equal to the best one's: the softmax score orders every column
    against the best one as the plain score does. -/
theorem scores_agree {n : ℕ} (hn : (n : ℝ) ≤ 4096) (r g : Fin n → ℝ) (M ε δ : ℝ) (hM : ∀ k, r k ≤ M) (h20 : ∀ k, M - 20 ≤ r k)
    (hε : 0 < ε) (hεδ : ε * (4096 * 3 ^ 20) < δ) (c : Fin n) (hnear : ∀ k, r c + g c - δ < r k + g k → r k = r c) (k : Fin n) :
    (r k + g k ≤ r c + g c → g k + Real.log (Real.exp (r k - M) * (1 / ∑ j, Real.exp (r j - M)) + ε)
        ≤ g c + Real.log (Real.exp (r c - M) * (1 / ∑ j, Real.exp (r j - M)) + ε))
    ∧ (r k + g k < r c + g c → g k + Real.log (Real.exp (r k - M) * (1 / ∑ j, Real.exp (r j - M)) + ε)
        < g c + Real.log (Real.exp (r c - M) * (1 / ∑ j, Real.exp (r j - M)) + ε)) := by
  set Z : ℝ := ∑ j, Real.exp (r j - M) with hZ
  have hZpos : 0 < Z := Finset.sum_pos (fun j _ => Real.exp_pos _) ⟨c, Finset.mem_univ c⟩
  have hZle : Z ≤ 4096 := by
    have h1 : Z ≤ ∑ _j : Fin n, (1 : ℝ) := Finset.sum_le_sum fun j _ => Real.exp_le_one_iff.2 (by linarith [hM j])
    simp at h1
    linarith
  have hp : ∀ j, 0 < Real.exp (r j - M) * (1 / Z) := fun j => by positivity
  have hlogp : ∀ j, Real.log (Real.exp (r j - M) * (1 / Z)) = r j - M - Real.log Z := fun j => by
    rw [one_div, Real.log_mul (Real.exp_pos _).ne' (inv_pos.2 hZpos).ne', Real.log_exp, Real.log_inv]; ring
  have hsplit : ∀ j, Real.log (Real.exp (r j - M) * (1 / Z) + ε)
      = r j - M - Real.log Z + Real.log (1 + ε / (Real.exp (r j - M) * (1 / Z))) := fun j => by
    have hq : 0 < 1 + ε / (Real.exp (r j - M) * (1 / Z)) := by have := div_pos hε (hp j); linarith
    rw [← hlogp j, ← Real.log_mul (hp j).ne' hq.ne']
    congr 1
    have := (hp j).ne'
    field_simp
  have hlow : ∀ j, 0 ≤ Real.log (1 + ε / (Real.exp (r j - M) * (1 / Z))) := fun j =>
    Real.log_nonneg (by have := div_pos hε (hp j); linarith)
  have hexp : Real.exp 20 ≤ 3 ^ 20 := by
    have h : Real.exp 20 = Real.exp 1 ^ 20 := by rw [← Real.exp_nat_mul]; norm_num
    rw [h]
    refine pow_le_pow_left₀ (Real.exp_pos _).le ?_ 20
    have h16 : Real.exp (1 / 16) ≤ 16 / 15 := by
      have h := Real.one_sub_le_exp_neg (1 / 16)
      rw [Real.exp_neg] at h
      have hpos := Real.exp_pos (1 / 16)
      have h' : (15 / 16 : ℝ) * Real.exp (1 / 16) ≤ 1 := by
        have := mul_le_mul_of_nonneg_right h hpos.le
        rw [inv_mul_cancel₀ hpos.ne'] at this
        linarith
      linarith
    have h1 : Real.exp 1 = Real.exp (1 / 16) ^ 16 := by rw [← Real.exp_nat_mul]; norm_num
    rw [h1]
    exact (pow_le_pow_left₀ (Real.exp_pos _).le h16 16).trans (by norm_num)
  have hhigh : ∀ j, Real.log (1 + ε / (Real.exp (r j - M) * (1 / Z))) < δ := fun j => by
    have hq := div_pos hε (hp j)
    have h1 : Real.log (1 + ε / (Real.exp (r j - M) * (1 / Z))) ≤ ε / (Real.exp (r j - M) * (1 / Z)) := by
      have := Real.log_le_sub_one_of_pos (show 0 < 1 + ε / (Real.exp (r j - M) * (1 / Z)) by linarith)
      linarith
    have h2 : ε / (Real.exp (r j - M) * (1 / Z)) = ε * (Z * Real.exp (M - r j)) := by
      rw [show M - r j = -(r j - M) by ring, Real.exp_neg]
      have := (Real.exp_pos (r j - M)).ne'
      have := hZpos.ne'
      field_simp
    have h3 : Z * Real.exp (M - r j) ≤ 4096 * 3 ^ 20 := by
      refine mul_le_mul hZle ((Real.exp_le_exp.2 ?_).trans hexp) (Real.exp_pos _).le (by norm_num)
      linarith [h20 j]
    rw [h2] at h1 ⊢
    have h4 := mul_le_mul_of_nonneg_left h3 hε.le
    linarith
  rw [hsplit k, hsplit c]
  by_cases hk : r c + g c - δ < r k + g k
  · have e := hnear k hk
    rw [e]
    exact ⟨fun h => by linarith, fun h => by linarith⟩
  · have h1 := hhigh k
    have h2 := hlow c
    have h3 := not_lt.1 hk
    exact ⟨fun _ => by linarith, fun _ => by linarith⟩

/-! ## The constants -/

theorem small_eq : Ideal.ofBits .f32 0x1E3CE508#32 = ((12379400 * (2 : ℝ) ^ (-90 : ℤ) : ℝ) : EReal) := by
  simp [Ideal.ofBits, Ideal.ieee, -EReal.coe_mul]
theorem margin_eq : Ideal.ofBits .f32 0x358637BD#32 = ((8796093 * (2 : ℝ) ^ (-43 : ℤ) : ℝ) : EReal) := by
  simp [Ideal.ofBits, Ideal.ieee, -EReal.coe_mul]
theorem twenty_eq : Ideal.ofBits .f32 0x41A00000#32 = ((20 : ℝ) : EReal) := by
  simp [Ideal.ofBits, Ideal.ieee, -EReal.coe_mul]; norm_num
theorem negInf_eq : Ideal.ofBits .f32 0xFF800000#32 = (⊥ : EReal) := by simp [Ideal.ofBits, Ideal.ieee]
theorem posInf_eq : Ideal.ofBits .f32 0x7F800000#32 = (⊤ : EReal) := by simp [Ideal.ofBits, Ideal.ieee]

theorem small_pos : (0 : ℝ) < 12379400 * (2 : ℝ) ^ (-90 : ℤ) := by positivity
theorem small_lt_margin : (12379400 * (2 : ℝ) ^ (-90 : ℤ)) * (4096 * 3 ^ 20) < 8796093 * (2 : ℝ) ^ (-43 : ℤ) := by
  norm_num [zpow_neg]

end Cert.Draw

end
-- ==== Proof.Folds.lean ====
/-
  Folds that find a largest or a smallest element, and the sum that a visited column changes.
-/
module

public import proofs.«01_k».proof.Proof.Draw
public import Idealize.ShloMosaic.Lib.SortNet.Extract

@[expose] public section

noncomputable section

namespace Cert.Draw

open Idealize.ShloMosaic

/-! ## Folds over a finite set -/

theorem fold_min_mem {ι : Type} (f : ι → BitVec 32) (b : BitVec 32) (s : Finset ι) :
    (s.fold IntOp.minsi b f = b ∨ ∃ i ∈ s, s.fold IntOp.minsi b f = f i) ∧ ∀ i ∈ s, (s.fold IntOp.minsi b f).toInt ≤ (f i).toInt := by
  classical
  induction s using Finset.induction_on with
  | empty => simp
  | insert a s ha ih =>
    rw [Finset.fold_insert ha]
    obtain ⟨hm, hle⟩ := ih
    refine ⟨?_, fun i hi => ?_⟩
    · by_cases h : ((f a).slt (s.fold IntOp.minsi b f)) = true
      · exact .inr ⟨a, Finset.mem_insert_self a s, if_pos h⟩
      · have e : IntOp.minsi (f a) (s.fold IntOp.minsi b f) = s.fold IntOp.minsi b f := if_neg h
        rw [e]
        rcases hm with hm | ⟨i, hi, hm⟩
        · exact .inl hm
        · exact .inr ⟨i, Finset.mem_insert_of_mem hi, hm⟩
    · rw [SortNet.toInt_minsi]
      rcases Finset.mem_insert.1 hi with rfl | hi
      · exact min_le_left _ _
      · exact (min_le_right _ _).trans (hle i hi)

theorem toInt_small {a : ℕ} (h : a ≤ 4096) : (BitVec.ofNat 32 a).toInt = a := by
  have hb : (BitVec.ofNat 32 a).toNat = a := by rw [BitVec.toNat_ofNat]; omega
  rw [BitVec.toInt_eq_toNat_of_lt (by omega), hb]

/-- The smallest number of a place with the property, the places numbered below `n` and `n` itself standing for the others. -/
theorem fold_first {ι : Type} [Fintype ι] {n : ℕ} (hn : n ≤ 4096) (p : ι → Fin n) (f : ι → BitVec 32) (P : ι → Prop)
    (hP : ∀ i, P i → f i = BitVec.ofNat 32 (p i).val) (hN : ∀ i, ¬ P i → f i = BitVec.ofNat 32 n) (i0 : ι) (hc : P i0)
    (hlt : ∀ i, p i < p i0 → ¬ P i) : Finset.univ.fold IntOp.minsi 2147483647#32 f = BitVec.ofNat 32 (p i0).val := by
  obtain ⟨hm, hle⟩ := fold_min_mem f 2147483647#32 Finset.univ
  generalize Finset.univ.fold IntOp.minsi 2147483647#32 f = r at hm hle ⊢
  have hcn := (p i0).isLt
  have h1 := hle i0 (Finset.mem_univ _)
  rw [hP i0 hc, toInt_small (by omega)] at h1
  refine BitVec.eq_of_toInt_eq ?_
  rw [toInt_small (by omega)]
  refine le_antisymm h1 ?_
  rcases hm with hm | ⟨i, -, hm⟩
  · rw [hm, show (2147483647#32 : BitVec 32).toInt = 2147483647 by decide]; omega
  · rw [hm]
    by_cases h : P i
    · rw [hP i h, toInt_small (by have := (p i).isLt; omega)]
      have := not_lt.1 fun hl => hlt i hl h
      exact_mod_cast this
    · rw [hN i h, toInt_small hn]; omega

/-- A sum of words of which all but one are zero. -/
theorem fold_addi_single {ι : Type} [Fintype ι] [DecidableEq ι] (f : ι → BitVec 32) (i : ι) (h : ∀ k, k ≠ i → f k = 0#32) :
    Finset.univ.fold IntOp.addi 0#32 f = f i := by
  have hz : ∀ s : Finset ι, i ∉ s → s.fold IntOp.addi 0#32 f = 0#32 := fun s => by
    induction s using Finset.induction_on with
    | empty => intro _; rfl
    | insert a s ha ih =>
      intro hi
      rw [Finset.fold_insert ha, ih fun h' => hi (Finset.mem_insert_of_mem h'), h a fun e => hi (e ▸ Finset.mem_insert_self a s)]
      rfl
  rw [← Finset.insert_erase (Finset.mem_univ i), Finset.fold_insert (Finset.notMem_erase i _), hz _ (Finset.notMem_erase i _)]
  exact BitVec.add_zero _

/-- A maximum over a finite set from −∞ on is the largest value. -/
theorem fold_max_top {ι : Type} [Fintype ι] (op : EReal → EReal → EReal) {_ : Std.Commutative op} {_ : Std.Associative op}
    (hop : ∀ x y, op x y = max x y) (f : ι → EReal) (i : ι) (h : ∀ k, f k ≤ f i) : Finset.univ.fold op ⊥ f = f i := by
  obtain rfl : op = max := funext fun x => funext fun y => hop x y
  refine le_antisymm (Finset.fold_max_le (f i) |>.2 ⟨bot_le, fun k _ => h k⟩) ?_
  exact (Finset.le_fold_max (f i)).2 (.inr ⟨i, Finset.mem_univ _, le_refl _⟩)

/-- A minimum over a finite set from +∞ on is the smallest value. -/
theorem fold_min_bot {ι : Type} [Fintype ι] (op : EReal → EReal → EReal) {_ : Std.Commutative op} {_ : Std.Associative op}
    (hop : ∀ x y, op x y = min x y) (f : ι → EReal) (i : ι) (h : ∀ k, f i ≤ f k) : Finset.univ.fold op ⊤ f = f i := by
  obtain rfl : op = min := funext fun x => funext fun y => hop x y
  refine le_antisymm ((Finset.fold_min_le (f i)).2 (.inr ⟨i, Finset.mem_univ _, le_refl _⟩)) ?_
  exact (Finset.le_fold_min (f i)).2 ⟨le_top, fun k _ => h k⟩

theorem exists_first {n : ℕ} (hn : 0 < n) (s : Fin n → EReal) : ∃ c, FirstMax s c := by
  haveI : Nonempty (Fin n) := ⟨⟨0, hn⟩⟩
  obtain ⟨m, hm⟩ := Finite.exists_max s
  obtain ⟨c, hc, hmin⟩ := WellFounded.has_min (wellFounded_lt (α := Fin n)) {k | s k = s m} ⟨m, rfl⟩
  have hc' : s c = s m := hc
  refine ⟨c, fun k => hc'.symm ▸ hm k, fun k hk => ?_⟩
  exact lt_of_le_of_ne (hc'.symm ▸ hm k) fun e => hmin k (e.trans hc') hk

theorem exists_last {n : ℕ} (hn : 0 < n) (s : Fin n → EReal) : ∃ c, FirstMin s c := by
  obtain ⟨c, h1, h2⟩ := exists_first hn fun k => -s k
  exact ⟨c, fun k => EReal.neg_le_neg_iff.1 (h1 k), fun k hk => EReal.neg_lt_neg_iff.1 (h2 k hk)⟩

/-! ## Folds over a list -/

/-- A fold that keeps the better of two ends at an element at least as good as every one. -/
theorem foldl_best {γ : Type} (R : γ → γ → Prop) (hrefl : ∀ a, R a a) (htrans : ∀ a b c, R a b → R b c → R a c) (f : γ → γ → γ)
    (hf : ∀ a b, f a b = a ∨ f a b = b) (hl : ∀ a b, R (f a b) a) (hr : ∀ a b, R (f a b) b) (l : List γ) (z : γ) :
    (l.foldl f z = z ∨ l.foldl f z ∈ l) ∧ R (l.foldl f z) z ∧ ∀ x ∈ l, R (l.foldl f z) x := by
  induction l generalizing z with
  | nil => exact ⟨.inl rfl, hrefl z, by simp⟩
  | cons a l ih =>
    obtain ⟨h1, h2, h3⟩ := ih (f z a)
    rw [List.foldl_cons]
    refine ⟨?_, htrans _ _ _ h2 (hl z a), fun x hx => ?_⟩
    · rcases h1 with h1 | h1
      · rcases hf z a with e | e
        · exact .inl (h1.trans e)
        · exact .inr (by rw [h1, e]; exact List.mem_cons_self)
      · exact .inr (List.mem_cons_of_mem a h1)
    · rcases List.mem_cons.1 hx with rfl | hx
      · exact htrans _ _ _ h2 (hr z x)
      · exact h3 x hx

/-- At least as good: a larger value, or the same one at no later a number. -/
def Above (p q : EReal × BitVec 32) : Prop := q.1 < p.1 ∨ (p.1 = q.1 ∧ p.2.toInt ≤ q.2.toInt)
/-- At least as good: a smaller value, or the same one at no later a number. -/
def Below (p q : EReal × BitVec 32) : Prop := p.1 < q.1 ∨ (p.1 = q.1 ∧ p.2.toInt ≤ q.2.toInt)

theorem Above.refl (a : EReal × BitVec 32) : Above a a := .inr ⟨rfl, le_refl _⟩
theorem Below.refl (a : EReal × BitVec 32) : Below a a := .inr ⟨rfl, le_refl _⟩
theorem Above.trans (a b c : EReal × BitVec 32) (h : Above a b) (h' : Above b c) : Above a c := by
  rcases h with h | ⟨e, h⟩ <;> rcases h' with h' | ⟨e', h'⟩
  · exact .inl (h'.trans h)
  · exact .inl (e' ▸ h)
  · exact .inl (e ▸ h')
  · exact .inr ⟨e.trans e', h.trans h'⟩
theorem Below.trans (a b c : EReal × BitVec 32) (h : Below a b) (h' : Below b c) : Below a c := by
  rcases h with h | ⟨e, h⟩ <;> rcases h' with h' | ⟨e', h'⟩
  · exact .inl (h.trans h')
  · exact .inl (e' ▸ h)
  · exact .inl (e ▸ h')
  · exact .inr ⟨e.trans e', h.trans h'⟩

/-- Whatever keeps the better of two finds the first largest of a list that holds the values with their numbers. -/
theorem fold_argmax {n : ℕ} (hn : n ≤ 4096) (f : EReal × BitVec 32 → EReal × BitVec 32 → EReal × BitVec 32) (hf : ∀ a b, f a b = a ∨ f a b = b)
    (hl : ∀ a b, Above (f a b) a) (hr : ∀ a b, Above (f a b) b) (l : List (EReal × BitVec 32)) (s : Fin n → EReal)
    (hmem : ∀ p ∈ l, ∃ k, p = (s k, BitVec.ofNat 32 k.val)) (hall : ∀ k, (s k, BitVec.ofNat 32 k.val) ∈ l) {c : Fin n} (hc : FirstMax s c)
    (hbot : s c ≠ ⊥) : (l.foldl f (⊥, 0#32)).2 = BitVec.ofNat 32 c.val := by
  obtain ⟨h1, -, h3⟩ := foldl_best Above Above.refl Above.trans f hf hl hr l (⊥, 0#32)
  have h := h3 _ (hall c)
  have key : ∀ k, Above (s k, BitVec.ofNat 32 k.val) (s c, BitVec.ofNat 32 c.val) → k = c := fun k hk => by
    rcases hk with hk | ⟨e, hk⟩
    · exact absurd (hc.1 k) (not_le.2 hk)
    · have hkn := k.isLt
      have hcn := c.isLt
      simp only [toInt_small (show k.val ≤ 4096 by omega), toInt_small (show c.val ≤ 4096 by omega)] at hk
      rcases lt_trichotomy k c with h | h | h
      · exact absurd e (hc.2 k h).ne
      · exact h
      · exact absurd (show k.val ≤ c.val by exact_mod_cast hk) (by have : c.val < k.val := h; omega)
  rcases h1 with h1 | h1
  · rw [h1] at h
    rcases h with h | ⟨e, -⟩
    · exact absurd h not_lt_bot
    · exact absurd e.symm hbot
  · obtain ⟨k, hk⟩ := hmem _ h1
    rw [hk] at h ⊢
    rw [key k h]

/-- Whatever keeps the better of two finds the first smallest of a list that holds the values with their numbers. -/
theorem fold_argmin {n : ℕ} (hn : n ≤ 4096) (f : EReal × BitVec 32 → EReal × BitVec 32 → EReal × BitVec 32) (hf : ∀ a b, f a b = a ∨ f a b = b)
    (hl : ∀ a b, Below (f a b) a) (hr : ∀ a b, Below (f a b) b) (l : List (EReal × BitVec 32)) (s : Fin n → EReal)
    (hmem : ∀ p ∈ l, ∃ k, p = (s k, BitVec.ofNat 32 k.val)) (hall : ∀ k, (s k, BitVec.ofNat 32 k.val) ∈ l) {c : Fin n} (hc : FirstMin s c)
    (htop : s c ≠ ⊤) : (l.foldl f (⊤, 0#32)).2 = BitVec.ofNat 32 c.val := by
  obtain ⟨h1, -, h3⟩ := foldl_best Below Below.refl Below.trans f hf hl hr l (⊤, 0#32)
  have h := h3 _ (hall c)
  have key : ∀ k, Below (s k, BitVec.ofNat 32 k.val) (s c, BitVec.ofNat 32 c.val) → k = c := fun k hk => by
    rcases hk with hk | ⟨e, hk⟩
    · exact absurd (hc.1 k) (not_le.2 hk)
    · have hkn := k.isLt
      have hcn := c.isLt
      simp only [toInt_small (show k.val ≤ 4096 by omega), toInt_small (show c.val ≤ 4096 by omega)] at hk
      rcases lt_trichotomy k c with h | h | h
      · exact absurd e.symm (hc.2 k h).ne
      · exact h
      · exact absurd (show k.val ≤ c.val by exact_mod_cast hk) (by have : c.val < k.val := h; omega)
  rcases h1 with h1 | h1
  · rw [h1] at h
    rcases h with h | ⟨e, -⟩
    · exact absurd h not_top_lt
    · exact absurd e.symm htop
  · obtain ⟨k, hk⟩ := hmem _ h1
    rw [hk] at h ⊢
    rw [key k h]

/-! ## A visited column -/

/-- The trail with column `c` visited. -/
def visit {n : ℕ} (a : Fin n → EReal) (c : Fin n) (k : Fin n) : EReal := if k = c then 1 else a k

/-- The sum of the squares. -/
def squares {n : ℕ} (u : Fin n → EReal) : EReal := ∑ k, u k * u k

theorem coe_sum {ι : Type} (s : Finset ι) (a : ι → ℝ) : ∑ k ∈ s, ((a k : ℝ) : EReal) = ((∑ k ∈ s, a k : ℝ) : EReal) := by
  classical
  induction s using Finset.induction_on with
  | empty => simp
  | insert i s hi ih => rw [Finset.sum_insert hi, Finset.sum_insert hi, ih, EReal.coe_add]

/-- The visited trail over real numbers. -/
def visitR {n : ℕ} (a : Fin n → ℝ) (c : Fin n) (k : Fin n) : ℝ := if k = c then 1 else a k

theorem visit_coe {n : ℕ} (a : Fin n → ℝ) (c k : Fin n) : visit (fun k => ((a k : ℝ) : EReal)) c k = ((visitR a c k : ℝ) : EReal) := by
  unfold visit visitR; split <;> simp

theorem squares_coe {n : ℕ} (u : Fin n → ℝ) : squares (fun k => ((u k : ℝ) : EReal)) = ((∑ k, u k * u k : ℝ) : EReal) := by
  simp only [squares, ← EReal.coe_mul, coe_sum]

/-- Visiting a column takes its square out of the sum of the squares and puts one in. -/
theorem squares_visit {n : ℕ} (a : Fin n → ℝ) (c : Fin n) :
    squares (visit (fun k => ((a k : ℝ) : EReal)) c) = (∑ k, ((a k : ℝ) : EReal) * (a k : ℝ)) - (a c : ℝ) * (a c : ℝ) + 1 := by
  have h : visit (fun k => ((a k : ℝ) : EReal)) c = fun k => ((visitR a c k : ℝ) : EReal) := funext (visit_coe a c)
  have h1 : ∑ k, visitR a c k * visitR a c k = ∑ k, a k * a k - a c * a c + 1 := by
    rw [← Finset.add_sum_erase _ _ (Finset.mem_univ c), ← Finset.add_sum_erase Finset.univ (fun k => a k * a k) (Finset.mem_univ c)]
    have : ∑ k ∈ Finset.univ.erase c, visitR a c k * visitR a c k = ∑ k ∈ Finset.univ.erase c, a k * a k :=
      Finset.sum_congr rfl fun k hk => by rw [visitR, if_neg (Finset.ne_of_mem_erase hk)]
    rw [this, show visitR a c c = 1 from if_pos rfl]
    ring
  rw [h, squares_coe, h1]
  simp only [← EReal.coe_mul, coe_sum]
  rw [← EReal.coe_sub, ← EReal.coe_one, ← EReal.coe_add]

end Cert.Draw

end
-- ==== Proof.MaskValue.lean ====
/-
  The mask row over the extended reals: the ant whose visited trail is shortest, its trail with the visited column set where
  that is shorter than the best one so far, else the best path as it was. And the table: a block of the mask row that the table
  does not send to itself is zero throughout.
-/
module

public import proofs.«01_k».proof.Proof.MaskBody
public import proofs.«01_k».proof.Proof.Folds
public import Idealize.ShloMosaic.Lib.Pointwise

@[expose] public section

set_option maxRecDepth 16384

noncomputable section

namespace Cert.KernelIdeal.Hand

open Cert.KernelIdeal Cert.KernelIdeal.Gen Cert.Draw
open Idealize.ShloMosaic

variable (rows noise paths : Vec Ideal S30x4096 .f32) (blen : Ideal .f32) (best : Vec Ideal S1x4096 .f32)

/-- The column the draw takes. -/
theorem pay1_eq (i : Fin 30) (c : Fin 4096) (hc : FirstMax (fun k => rows (ix2 i k) + noise (ix2 i k)) c) :
    k0_pay1 rows noise (ix2 i 0) = BitVec.ofNat 32 c.val := by
  pointwise [k0_pay1]
  rw [negInf_eq, fold_max_top _ (fun _ _ => rfl) _ c hc.1]
  exact fold_first (n := 4096) le_rfl (fun k => k) _ (fun k => rows (ix2 i k) + noise (ix2 i k) = rows (ix2 i c) + noise (ix2 i c))
    (fun k hk => if_pos hk) (fun k hk => if_neg hk) c rfl fun k hk => (hc.2 k hk).ne

theorem word_eq_iff {n : ℕ} (hn : n ≤ 4096) (a b : Fin n) : IntOp.cmpi .eq (BitVec.ofNat 32 a.val) (BitVec.ofNat 32 b.val) = if a = b then 1#1 else 0#1 := by
  have ha := a.isLt
  have hb := b.isLt
  by_cases h : a = b
  · rw [if_pos h, h]; simp [IntOp.cmpi]
  · rw [if_neg h]
    have : BitVec.ofNat 32 a.val ≠ BitVec.ofNat 32 b.val := fun e => h (Fin.ext (by
      have e' := congrArg BitVec.toNat e
      simp only [BitVec.toNat_ofNat] at e'
      omega))
    show BitVec.ofBool (BitVec.ofNat 32 a.val == BitVec.ofNat 32 b.val) = 0#1
    rw [beq_eq_false_iff_ne.2 this]; rfl

theorem select_ite {α : Type} (p : Prop) [Decidable p] (x y : α) : Scalar.select (if p then 1#1 else 0#1) x y = if p then x else y := by
  by_cases h : p <;> simp [h, Scalar.select]

/-- The length squared of one ant's visited trail. -/
theorem pay2_eq (i : Fin 30) (c : Fin 4096) (hc : FirstMax (fun k => rows (ix2 i k) + noise (ix2 i k)) c) (a : Fin 4096 → ℝ)
    (ha : ∀ k, paths (ix2 i k) = ((a k : ℝ) : EReal)) :
    k0_pay2 rows noise paths (ix2 i 0) = squares (visit (fun k => paths (ix2 i k)) c) := by
  have hp : (fun k => paths (ix2 i k)) = fun k => ((a k : ℝ) : EReal) := funext ha
  rw [hp, squares_visit]
  pointwise [k0_pay2]
  rw [pay1_eq rows noise i c hc]
  simp only [word_eq_iff (n := 4096) le_rfl, select_ite, Finset.sum_ite_eq', Finset.sum_ite_eq, Finset.mem_univ, if_true, ha]

theorem pay7_eq (v191 : IVec S30x1 32) (v192 : Vec Ideal S30x4096 .f32) (v210 : IVec S30x1 32) (v218 : BitVec 32) (v221 : BitVec 1)
    (v222 : IVec S30x1 32) (v243 : Vec Ideal S1x4096 .f32) (k : Fin 4096) :
    k0_pay7 v191 v192 v210 v218 v221 v222 v243 (ix2 0 k)
      = Scalar.select v221 (Scalar.select (IntOp.cmpi .eq (BitVec.ofNat 32 k.val)
          (Finset.univ.fold IntOp.addi 0#32 fun x : Fin 30 × Fin 1 =>
            Scalar.select (IntOp.cmpi .eq (v210 (ix2 x.1 0)) (v222 (ix2 x.1 0))) (v191 (ix2 x.1 0)) 0#32)) (1 : EReal)
        (∑ x : Fin 30, Scalar.select (IntOp.cmpi .eq (v210 (ix2 x 0)) v218) (v192 (ix2 x k)) (0 : EReal))) (v243 (ix2 0 k)) := by
  pointwise [k0_pay7]

section
variable (c : Fin 30 → Fin 4096) (hc : ∀ i, FirstMax (fun k => rows (ix2 i k) + noise (ix2 i k)) (c i)) (a : Fin 30 → Fin 4096 → ℝ)
  (ha : ∀ i k, paths (ix2 i k) = ((a i k : ℝ) : EReal)) (b : Fin 30) (hb : FirstMin (fun i => squares (visit (fun k => paths (ix2 i k)) (c i))) b)

include hc ha hb

theorem pay3_eq : k0_pay3 rows noise paths = squares (visit (fun k => paths (ix2 b k)) (c b)) := by
  have hq : ∀ i, k0_pay2 rows noise paths (ix2 i 0) = squares (visit (fun k => paths (ix2 i k)) (c i)) := fun i =>
    pay2_eq rows noise paths i (c i) (hc i) (a i) (ha i)
  pointwise [k0_pay3]
  generalize k0_pay2 rows noise paths = q at hq ⊢
  simp only [hq]
  rw [posInf_eq]
  exact fold_min_bot _ (fun _ _ => rfl) _ (b, 0) fun k => hb.1 k.1

omit hc ha hb in
theorem first_ant (s : Fin 30 → EReal) (q : Fin 30 × Fin 1 → EReal) (hq : ∀ x, q x = s x.1) (hs : FirstMin s b) (f : Fin 30 × Fin 1 → BitVec 32)
    (hf : ∀ x, q x = s b → f x = BitVec.ofNat 32 x.1.val) (hf' : ∀ x, q x ≠ s b → f x = 30#32) :
    Finset.univ.fold IntOp.minsi 2147483647#32 f = BitVec.ofNat 32 b.val :=
  fold_first (n := 30) (by decide) (fun x => x.1) f (fun x => q x = s b) hf hf' (b, 0) (hq (b, 0)) fun x hx e => (hs.2 x.1 hx).ne (e.symm.trans (hq x))

/-- The ant the choice takes. -/
theorem pay4_eq : extractAt ![0, 0, 0] (k0_pay4 rows noise paths) inpos_S1x1x1_p0_0_0 = BitVec.ofNat 32 b.val := by
  have hq : ∀ x : Fin 30 × Fin 1, k0_pay2 rows noise paths (ix2 x.1 0) = squares (visit (fun k => paths (ix2 x.1 k)) (c x.1)) := fun x =>
    pay2_eq rows noise paths x.1 (c x.1) (hc x.1) (a x.1) (ha x.1)
  pointwise [k0_pay4]
  rw [pay3_eq rows noise paths c hc a ha b hb]
  exact first_ant b _ _ hq hb _ (fun x hx => if_pos hx) (fun x hx => if_neg hx)

theorem pay6_eq (i : Fin 30) : k0_pay6 rows noise paths (ix2 i 0) = BitVec.ofNat 32 b.val := by
  have h := pay4_eq rows noise paths c hc a ha b hb
  unfold k0_pay6
  rw [h]
  rfl

theorem pay5_eq : k0_pay5 rows noise paths = Ideal.sqrt (squares (visit (fun k => paths (ix2 b k)) (c b))) := by
  have h := pay3_eq rows noise paths c hc a ha b hb
  pointwise [k0_pay5]
  rw [h]
  rfl

/-- The mask row. -/
theorem maskRow_eq (k : Fin 4096) : maskRow rows noise paths blen best (ix2 0 k)
    = if Ideal.sqrt (squares (visit (fun k => paths (ix2 b k)) (c b))) < blen then visit (fun k => paths (ix2 b k)) (c b) k else best (ix2 0 k) := by
  have h4 := pay4_eq rows noise paths c hc a ha b hb
  have h5 := pay5_eq rows noise paths c hc a ha b hb
  have h6 := pay6_eq rows noise paths c hc a ha b hb
  unfold maskRow
  rw [pay7_eq, h4, h5]
  rw [fold_addi_single _ (b, 0)]
  · rw [h6]
    rw [pay1_eq rows noise b (c b) (hc b)]
    have hi : ∀ x : Fin 30, iota .tc S30x1 32 [0] iota_S30x1_d0_w32 (ix2 x 0) = BitVec.ofNat 32 x.val := fun x => by pointwise []
    have e1 : Scalar.select 1#1 (BitVec.ofNat 32 (c b).val) 0#32 = BitVec.ofNat 32 (c b).val := rfl
    have e2 : ∀ (x y : EReal), Scalar.select (Scalar.cmpf (F := Ideal) (φ := .f32) .olt (Ideal.sqrt (squares (visit (fun k => paths (ix2 b k)) (c b)))) blen) x y
        = if Ideal.sqrt (squares (visit (fun k => paths (ix2 b k)) (c b))) < blen then x else y := fun x y => by
      show (if BitVec.ofBool (decide _) = 1#1 then x else y) = _
      by_cases h : Ideal.sqrt (squares (visit (fun k => paths (ix2 b k)) (c b))) < blen
      · rw [if_pos h, decide_eq_true h]; rfl
      · rw [if_neg h, decide_eq_false h]; rfl
    rw [e2]
    simp only [hi, word_eq_iff (n := 30) (by decide), if_true, e1, word_eq_iff (n := 4096) le_rfl, select_ite, Finset.sum_ite_eq', Finset.sum_ite_eq,
      Finset.mem_univ, if_true, visit]
  · intro x hx
    rw [h6]
    have hne : x.1 ≠ b := fun e => hx (Prod.ext e (Subsingleton.elim _ _))
    have hi : iota .tc S30x1 32 [0] iota_S30x1_d0_w32 (ix2 x.1 0) = BitVec.ofNat 32 x.1.val := by pointwise []
    rw [hi, word_eq_iff (n := 30) (by decide), if_neg hne]
    rfl
end

/-- The table: a block sent elsewhere is zero throughout. -/
theorem blkMax_eq (b : Fin 8) (row : FVec Ideal S1x4096 .f32) (k : Fin 512) (h : live row b ≠ 1#1) : row (ix2 0 ⟨512 * b.val + k.val, by omega⟩) = 0 := by
  unfold live at h
  have hb : blkMax b row = Finset.univ.fold max ⊥ (fun x : Fin 1 × Fin 512 => FloatOps.absf (row (ix2 0 ⟨512 * b.val + x.2.val, by omega⟩))) := by
    pointwise [blkMax]
    rw [negInf_eq]
  rw [hb] at h
  by_contra hne
  apply h
  have h0 : (0 : EReal) < max (row (ix2 0 ⟨512 * b.val + k.val, by omega⟩)) (-(row (ix2 0 ⟨512 * b.val + k.val, by omega⟩))) :=
    (Ideal.zero_lt_max_neg_iff _).2 hne
  have h1 := (Finset.le_fold_max (s := Finset.univ) (f := fun x : Fin 1 × Fin 512 => (FloatOps.absf (row (ix2 0 ⟨512 * b.val + x.2.val, by omega⟩)) : EReal)) (b := ⊥) _).2
    (.inr ⟨(0, k), Finset.mem_univ _, le_refl _⟩)
  show Ideal.cmp .ogt _ (Ideal.ofBits .f32 0#32) = 1#1
  rw [Ideal.ofBits_zero_f32]
  simp only [Ideal.cmp]
  rw [decide_eq_true (lt_of_lt_of_le h0 h1)]
  rfl

end Cert.KernelIdeal.Hand

end
-- ==== Proof.KernelValue.lean ====
/-
  The kernel's result in terms of its arguments, over the extended reals: what the two regions are entered with, and the product
  read at every block's own columns, since a block with no nonzero in its mask is zero wherever it is read from.
-/
module

public import proofs.«01_k».proof.Proof.Ends
public import proofs.«01_k».proof.Proof.MaskValue

@[expose] public section

set_option maxRecDepth 16384

noncomputable section

namespace Cert.KernelIdeal.Hand

open Cert.KernelIdeal Cert.KernelIdeal.Gen Cert.Draw
open Idealize.ShloMosaic Idealize.ShloMosaic.TcCoe Idealize.ShloMosaic.Tactic

/-- The noise. -/
def noise : FVec Ideal S30x4096 .f32 := fun i => FloatOps.ofBits .f32 (lit0 (S30x4096.rowMajor i))

variable (m : (ℓ : Loc nD τ sig) → Buf (Elt Ideal) ℓ) (c : Dev nD)

theorem in_noise : noiseOf (V1 m) c = noise := by
  unfold noiseOf V1 hostOps0
  after_results
  rfl

theorem in_blen : blenOf (V1 m) c = (shapeCast S1 (m ((c : Thread nD τ).loc main_arg5) : FVec Ideal S_ .f32) shapeCasts_S_S1 : FVec Ideal S1 .f32) := by
  unfold blenOf V1 hostOps0
  after_results
  rfl

theorem in_best : bestOf (V1 m) c = (shapeCast S1x4096 (m ((c : Thread nD τ).loc main_arg4) : FVec Ideal S4096 .f32) shapeCasts_S4096_S1x4096 : FVec Ideal S1x4096 .f32) := by
  unfold bestOf V1 hostOps0
  after_results
  rfl

theorem in_x : xOf (W3 m) c = (shapeCast S8192x4096 (m ((c : Thread nD τ).loc main_arg0) : FVec Ideal S2x4096x4096 .f32) shapeCasts_S2x4096x4096_S8192x4096 : FVec Ideal S8192x4096 .f32) := by
  have h : W2 m c main_arg0 = m ((c : Thread nD τ).loc main_arg0) := by
    rw [← V2_eq]
    exact (V2_of m (outs m) c main_arg0 (by decide)).trans (V1_of m c main_arg0 (by decide))
  have h' : xOf (W3 m) c = (shapeCast S8192x4096 (W2 m c main_arg0 : FVec Ideal S2x4096x4096 .f32) shapeCasts_S2x4096x4096_S8192x4096 : FVec Ideal S8192x4096 .f32) := by
    unfold xOf W3 hostOps1
    after_results
    rfl
  rw [h', h]

theorem in_row : rowIn (W3 m) c = maskOf (V1 m) c := by
  rw [← V2_mask m c]
  unfold rowIn W3
  rw [← V2_eq]
  exact V3_of m (outs m) c main_v2_0 (by decide)

/-- The mask row, of the arguments. -/
theorem mask_args : maskOf (V1 m) c = maskRow (rowsOf (m ((c : Thread nD τ).loc main_arg2)) (m ((c : Thread nD τ).loc main_arg1))) noise
    (m ((c : Thread nD τ).loc main_arg3)) ((shapeCast S1 (m ((c : Thread nD τ).loc main_arg5) : FVec Ideal S_ .f32) shapeCasts_S_S1 : FVec Ideal S1 .f32) one0)
    (shapeCast S1x4096 (m ((c : Thread nD τ).loc main_arg4) : FVec Ideal S4096 .f32) shapeCasts_S4096_S1x4096 : FVec Ideal S1x4096 .f32) := by
  unfold maskOf
  rw [in_noise, in_blen, in_best]
  unfold posOf trailsOf pathsOf
  rw [V1_of m c main_arg2 (by decide), V1_of m c main_arg1 (by decide), V1_of m c main_arg3 (by decide)]

omit m c

/-- A block with a nonzero is named itself. -/
theorem table_live (row : FVec Ideal S1x4096 .f32) (b : Fin 8) (h : live row b = 1#1) : (colTable row (ix8 b) : BitVec 32) = BitVec.ofNat 32 b.val := by
  have e : (colTable row (ix8 b) : BitVec 32) = Scalar.select (live row b) (BitVec.ofNat 32 b.val) (firstLive row) := rfl
  rw [e, h]
  exact if_pos rfl

/-- A column whose block the table names itself is read from itself. -/
theorem src_own (T : Vec Ideal S8 .i32) (k : Fin 4096) (h : (T (ix8 ⟨k.val / 512, by omega⟩) : BitVec 32) = BitVec.ofNat 32 (k.val / 512)) : srcCol T k = k := by
  have hk := k.isLt
  have hn : (T (ix8 ⟨k.val / 512, by omega⟩) : BitVec 32).toNat = k.val / 512 := by rw [h, BitVec.toNat_ofNat]; omega
  refine Fin.ext ?_
  show ((T (ix8 ⟨k.val / 512, by omega⟩) : BitVec 32).toNat * 512 + k.val % 512) % 4096 = k.val
  rw [hn]
  omega

/-- A zero block's entry. -/
theorem row_dead (row : FVec Ideal S1x4096 .f32) (k : Fin 4096) (b : Fin 8) (hb : b.val = k.val / 512) (h : live row b ≠ 1#1) : row (ix2 0 k) = 0 := by
  have hz := blkMax_eq b row ⟨k.val % 512, Nat.mod_lt _ (by decide)⟩ h
  have he : ∀ p : 512 * b.val + k.val % 512 < 4096, (⟨512 * b.val + k.val % 512, p⟩ : Fin 4096) = k := fun _ =>
    Fin.ext (by show 512 * b.val + k.val % 512 = k.val; rw [hb]; exact Nat.div_add_mod _ _)
  rwa [he] at hz

/-- A block is read at its own columns, or is zero. -/
theorem product_own (x : Vec Ideal S8192x4096 .f32) (row : FVec Ideal S1x4096 .f32) (r : Fin 8192) (k : Fin 4096) :
    productOf (colTable row) x row (ix2 r k) = x (ix2 r k) * row (ix2 0 k) := by
  have hk := k.isLt
  have hx : ∀ j, wideIx r j = ix2 r j := fun j => funext fun | ⟨0, _⟩ => rfl | ⟨1, _⟩ => rfl
  have hr : rowIx k = ix2 0 k := funext fun | ⟨0, _⟩ => rfl | ⟨1, _⟩ => rfl
  have h : productOf (colTable row) x row (ix2 r k) = x (wideIx r (srcCol (colTable row) k)) * row (rowIx k) := rfl
  rw [h, hx, hr]
  by_cases hl : live row ⟨k.val / 512, by omega⟩ = 1#1
  · rw [src_own _ k (table_live row _ hl)]
  · rw [row_dead row k _ rfl hl, mul_zero, mul_zero]

/-- The result, from `x` taken as rows and a mask row: every entry times its column's mask. -/
theorem out_eq (x : FVec Ideal S2x4096x4096 .f32) (row : FVec Ideal S1x4096 .f32) (i : Fin 2) (j k : Fin 4096) :
    (shapeCast S2x4096x4096 (productOf (colTable row) (shapeCast S8192x4096 x shapeCasts_S2x4096x4096_S8192x4096) row) shapeCasts_S8192x4096_S2x4096x4096 : FVec Ideal S2x4096x4096 .f32) (ix3 i j k)
      = x (ix3 i j k) * row (ix2 0 k) := by
  have h : ∀ y : FVec Ideal S8192x4096 .f32, (shapeCast S2x4096x4096 y shapeCasts_S8192x4096_S2x4096x4096 : FVec Ideal S2x4096x4096 .f32) (ix3 i j k)
      = y (ix2 ⟨i.val * 4096 + j.val, by omega⟩ k) := fun y => by
    pointwise []
  have h' : (shapeCast S8192x4096 x shapeCasts_S2x4096x4096_S8192x4096 : FVec Ideal S8192x4096 .f32) (ix2 ⟨i.val * 4096 + j.val, by omega⟩ k) = x (ix3 i j k) := by
    pointwise []
  rw [h, product_own, h']

/-- A row a position names. -/
theorem rows_eq (pos : Vec Ideal S30 .i32) (t : FVec Ideal S4096x4096 .f32) (i : Fin 30) (k b : Fin 4096) (h : (pos (Idealize.ShloMosaic.ix1 i) : BitVec 32) = BitVec.ofNat 32 b.val) :
    rowsOf pos t (ix2 i k) = t (ix2 b k) := by
  have e : ix30 i = Idealize.ShloMosaic.ix1 i := funext fun | ⟨0, _⟩ => rfl
  have hb := b.isLt
  have hw : (pos (ix30 i) : BitVec 32).toNat % 4096 = b.val := by rw [e, h, BitVec.toNat_ofNat]; omega
  have h1 : rowsOf pos t (ix2 i k) = t (trIx ⟨(pos (ix30 i) : BitVec 32).toNat % 4096, Nat.mod_lt _ (by decide)⟩ k) := rfl
  have h2 : (⟨(pos (ix30 i) : BitVec 32).toNat % 4096, Nat.mod_lt _ (by decide)⟩ : Fin 4096) = b := Fin.ext hw
  rw [h1, h2]
  exact congrArg t (funext fun | ⟨0, _⟩ => rfl | ⟨1, _⟩ => rfl)

theorem len_eq (bl : FVec Ideal S_ .f32) : (shapeCast S1 bl shapeCasts_S_S1 : FVec Ideal S1 .f32) one0 = bl ix0 := by
  have e : one0 = Idealize.ShloMosaic.ix1 0 := funext fun | ⟨0, _⟩ => rfl
  rw [e]
  pointwise []

theorem best_eq (bp : FVec Ideal S4096 .f32) (k : Fin 4096) : (shapeCast S1x4096 bp shapeCasts_S4096_S1x4096 : FVec Ideal S1x4096 .f32) (ix2 0 k) = bp (Idealize.ShloMosaic.ix1 k) := by
  pointwise []

end Cert.KernelIdeal.Hand

end
-- ==== Proof.RefValue.lean ====
/-
  The reference's mask over the extended reals: the softmax of a row of finite trails, the scores, the draw's column, the
  visited trail, the shortest ant, and the row that scales the input.
-/
module

public import proofs.«01_k».proof.Proof.RefRun
public import proofs.«01_k».proof.Proof.Folds
public import Idealize.ShloMosaic.Lib.Pointwise
public import Idealize.ShloMosaic.Lib.Routing.Ops
public import Idealize.ShloMosaic.Lib.Routing.OpsPair
public import Idealize.ShloMosaic.Lib.Routing.OpsSet

@[expose] public section

set_option maxRecDepth 16384

noncomputable section

namespace Cert.ReferenceIdeal.Hand

open Cert.ReferenceIdeal Cert.ReferenceIdeal.Gen Cert.Draw
open Idealize.ShloMosaic

/-! ## The softmax -/

theorem rowMax_eq (t : FVec Ideal S4096x4096 .f32) (i m : Fin 4096) (hm : ∀ k, t (ix2 i k) ≤ t (ix2 i m)) :
    Host.reduce FloatOps.maximumf t (constant S_ .f32 0xFF800000#32) reducesTo_S4096x4096_S4096_d1 h_S_ (ix1 i) = t (ix2 i m) := by
  have h : Host.reduce FloatOps.maximumf t (constant S_ .f32 0xFF800000#32) reducesTo_S4096x4096_S4096_d1 h_S_ (ix1 i)
      = Finset.univ.fold max (constant (F := Ideal) S_ .f32 0xFF800000#32 (Shape.Idx.first h_S_)) fun k : Fin 4096 => t (ix2 i k) := by
    simp only [pointwise]
  have hb : constant (F := Ideal) S_ .f32 0xFF800000#32 (Shape.Idx.first h_S_) = (⊥ : EReal) := negInf_eq
  rw [h, hb]
  exact fold_max_top _ (fun _ _ => rfl) (fun k => t (ix2 i k)) m hm

theorem bot_max (q : EReal) : FloatOps.maximumf (F := Ideal) (φ := .f32) (⊥ : EReal) q = q := max_eq_right bot_le

theorem topRow_eq (q : FVec Ideal S4096 .f32) (i : Fin 4096) :
    maximumf (broadcastInDim S4096 ![] bcast_S_S4096 (constant (F := Ideal) S_ .f32 0xFF800000#32)) q (ix1 i) = q (ix1 i) := by
  have hb : broadcastInDim S4096 ![] bcast_S_S4096 (constant (F := Ideal) S_ .f32 0xFF800000#32) (ix1 i) = (⊥ : EReal) := negInf_eq
  have h : ∀ x y : FVec Ideal S4096 .f32, maximumf x y (ix1 i) = FloatOps.maximumf (F := Ideal) (x (ix1 i)) (y (ix1 i)) := fun _ _ => rfl
  rw [h, hb]
  exact bot_max _

theorem spread_eq (w : FVec Ideal S4096 .f32) (i k : Fin 4096) :
    broadcastInDim S4096x4096 ![0, 1] bcast_S4096x1_S4096x4096_0_1 (broadcastInDim S4096x1 ![0] bcast_S4096_S4096x1_0 w) (ix2 i k) = w (ix1 i) := by
  pointwise []

/-- The largest entry of a row. -/
theorem topOf_eq (t : FVec Ideal S4096x4096 .f32) (i k m : Fin 4096) (hm : ∀ k, t (ix2 i k) ≤ t (ix2 i m)) : topOf t (ix2 i k) = t (ix2 i m) :=
  (spread_eq _ i k).trans ((topRow_eq _ i).trans (rowMax_eq t i m hm))

/-- The softmax of a row of real numbers. -/
theorem probsOf_eq (t : FVec Ideal S4096x4096 .f32) (i m : Fin 4096) (r : Fin 4096 → ℝ) (hr : ∀ k, t (ix2 i k) = ((r k : ℝ) : EReal))
    (hm : ∀ k, r k ≤ r m) (k : Fin 4096) :
    probsOf t (ix2 i k) = ((Real.exp (r k - r m) * (1 / ∑ j, Real.exp (r j - r m)) : ℝ) : EReal) := by
  have he : ∀ k, expOf t (ix2 i k) = ((Real.exp (r k - r m) : ℝ) : EReal) := fun k => by
    have ht := topOf_eq t i k m fun k => by rw [hr, hr]; exact EReal.coe_le_coe_iff.2 (hm k)
    pointwise [expOf]
    rw [ht, hr, hr, ← EReal.coe_sub, Ideal.exp_coe]
  pointwise [probsOf]
  simp only [he, coe_sum]
  have hz : (∑ j, Real.exp (r j - r m)) ≠ 0 := (Finset.sum_pos (fun j _ => Real.exp_pos _) ⟨m, Finset.mem_univ m⟩).ne'
  rw [Ideal.div_coe hz, ← EReal.coe_mul]

/-! ## The rows the positions name -/

theorem rowsAt_eq (pos : IVec S30 32) (i : Fin 30) (h : (pos (ix1 i)).toNat < 4096) : rowsAt pos (ix2 i 0) = pos (ix1 i) := by
  pointwise [rowsAt]
  exact Routing.wrap_of_lt _ _ (by omega)

theorem inRange_eq (q : IVec S30x1 32) (i : Fin 30) (h : (q (ix2 i 0)).toNat < 4096) : inRange q (ix1 i) = 1#1 := by
  pointwise [inRange]
  have h1 : IntOp.cmpi .sge (q (ix2 i 0)) 0#32 = 1#1 := by
    generalize q (ix2 i 0) = w at h
    show BitVec.ofBool ((0#32).sle w) = 1#1
    have : (0#32).sle w = true := by
      rw [BitVec.sle_eq_decide, decide_eq_true_iff, BitVec.toInt_eq_toNat_of_lt (x := w) (by omega)]; simp
    rw [this]; rfl
  have h2 : IntOp.cmpi .sle (q (ix2 i 0)) 4095#32 = 1#1 := by
    generalize q (ix2 i 0) = w at h
    show BitVec.ofBool (w.sle 4095#32) = 1#1
    have : w.sle 4095#32 = true := by
      rw [BitVec.sle_eq_decide, decide_eq_true_iff, BitVec.toInt_eq_toNat_of_lt (x := w) (by omega)]
      rw [show (4095#32 : BitVec 32).toInt = 4095 by decide]; omega
    rw [this]; rfl
  have e : (fun x : Fin 1 => IntOp.andi (IntOp.cmpi .sge (q (ix2 i x)) 0#32) (IntOp.cmpi .sle (q (ix2 i x)) 4095#32)) = fun _ => 1#1 :=
    funext fun x => by rw [Subsingleton.elim x 0, h1, h2]; rfl
  rw [e]
  rfl

theorem takeOf_eq (p : FVec Ideal S4096x4096 .f32) (pos : IVec S30 32) (i : Fin 30) (k b : Fin 4096) (h : pos (ix1 i) = BitVec.ofNat 32 b.val) :
    takeOf p pos (ix2 i k) = p (ix2 b k) := by
  have hlt : (pos (ix1 i)).toNat < 4096 := by rw [h, BitVec.toNat_ofNat]; have := b.isLt; omega
  have h1 := rowsAt_eq pos i hlt
  have h2 := inRange_eq (rowsAt pos) i (by rw [h1]; exact hlt)
  have h3 : Host.gather gather_S4096x4096_S30x1_S30x4096_1_0_n_n_0_1_14096 p (rowsAt pos) (ix2 i k) = p (ix2 b k) :=
    Routing.gather_row _ rfl rfl rfl rfl rfl p (rowsAt pos) i k b (h1.trans h) (by decide)
  pointwise [takeOf]
  rw [h2, h3]
  rfl

/-! ## The draw -/

/-- The score of a column whose probability is positive. -/
theorem scoresOf_eq (n p : FVec Ideal S30x4096 .f32) (i : Fin 30) (k : Fin 4096) (g q : ℝ) (hn : n (ix2 i k) = ((g : ℝ) : EReal))
    (hp : p (ix2 i k) = ((q : ℝ) : EReal)) (hq : 0 ≤ q) :
    scoresOf n p (ix2 i k) = ((g + Real.log (q + 12379400 * (2 : ℝ) ^ (-90 : ℤ)) : ℝ) : EReal) := by
  pointwise [scoresOf]
  have h := small_pos
  rw [hn, hp, small_eq, ← EReal.coe_add, Ideal.log_coe, if_neg (by linarith), EReal.coe_add]

theorem drop_eq (i : Fin 30) (k : Fin 4096) : reducesTo_S30x4096_S30_d1.drop (ix2 i k) = ix1 i := by
  funext a
  match a with
  | ⟨0, _⟩ => exact Fin.ext (reducesTo_S30x4096_S30_d1.drop_apply_val_of_eq (ix2 i k) 0 0)

/-- The draw's comparison keeps the larger value, at one value the earlier column. -/
theorem argmax_cases (a b : EReal × BitVec 32) : reducer_argmax_f32_i32 (F := Ideal) a b
    = if b.1 < a.1 ∨ (a.1 = b.1 ∧ a.2.toInt < b.2.toInt) then a else b := by
  have h1 : FloatOps.cmpf (F := Ideal) (φ := .f32) .ogt a.1 b.1 = BitVec.ofBool (decide (b.1 < a.1)) := rfl
  have h2 : FloatOps.cmpf (F := Ideal) (φ := .f32) .une a.1 a.1 = BitVec.ofBool (decide (a.1 ≠ a.1)) := rfl
  have h3 : FloatOps.cmpf (F := Ideal) (φ := .f32) .oeq a.1 b.1 = BitVec.ofBool (decide (a.1 = b.1)) := rfl
  have h4 : IntOp.cmpi .slt a.2 b.2 = BitVec.ofBool (decide (a.2.toInt < b.2.toInt)) := congrArg BitVec.ofBool BitVec.slt_eq_decide
  unfold reducer_argmax_f32_i32
  simp only [h1, h2, h3, h4]
  have hor : ∀ x : Bool, (1#1 ||| BitVec.ofBool x) = 1#1 := by decide
  by_cases c1 : b.1 < a.1
  · rw [if_pos (.inl c1)]; simp [c1, Scalar.select, IntOp.ori, IntOp.andi, hor]
  · by_cases c2 : a.1 = b.1
    · by_cases c3 : a.2.toInt < b.2.toInt
      · rw [if_pos (.inr ⟨c2, c3⟩)]; simp [c2, c3, Scalar.select, IntOp.ori, IntOp.andi]; exact Prod.ext c2.symm rfl
      · rw [if_neg (by rintro (h | ⟨-, h⟩); exacts [c1 h, c3 h])]; simp [c1, c3, Scalar.select, IntOp.ori, IntOp.andi]
    · rw [if_neg (by rintro (h | ⟨h, -⟩); exacts [c1 h, c2 h])]; simp [c1, c2, Scalar.select, IntOp.ori, IntOp.andi]

/-- The choice's comparison keeps the smaller value, at one value the earlier ant. -/
theorem argmin_cases (a b : EReal × BitVec 32) : reducer_argmin_f32_i32 (F := Ideal) a b
    = if a.1 < b.1 ∨ (a.1 = b.1 ∧ a.2.toInt < b.2.toInt) then a else b := by
  have h1 : FloatOps.cmpf (F := Ideal) (φ := .f32) .olt a.1 b.1 = BitVec.ofBool (decide (a.1 < b.1)) := rfl
  have h2 : FloatOps.cmpf (F := Ideal) (φ := .f32) .une a.1 a.1 = BitVec.ofBool (decide (a.1 ≠ a.1)) := rfl
  have h3 : FloatOps.cmpf (F := Ideal) (φ := .f32) .oeq a.1 b.1 = BitVec.ofBool (decide (a.1 = b.1)) := rfl
  have h4 : IntOp.cmpi .slt a.2 b.2 = BitVec.ofBool (decide (a.2.toInt < b.2.toInt)) := congrArg BitVec.ofBool BitVec.slt_eq_decide
  unfold reducer_argmin_f32_i32
  simp only [h1, h2, h3, h4]
  have hor : ∀ x : Bool, (1#1 ||| BitVec.ofBool x) = 1#1 := by decide
  by_cases c1 : a.1 < b.1
  · rw [if_pos (.inl c1)]; simp [c1, Scalar.select, IntOp.ori, IntOp.andi, hor]
  · by_cases c2 : a.1 = b.1
    · by_cases c3 : a.2.toInt < b.2.toInt
      · rw [if_pos (.inr ⟨c2, c3⟩)]; simp [c2, c3, Scalar.select, IntOp.ori, IntOp.andi]; exact Prod.ext c2.symm rfl
      · rw [if_neg (by rintro (h | ⟨-, h⟩); exacts [c1 h, c3 h])]; simp [c1, c3, Scalar.select, IntOp.ori, IntOp.andi]
    · rw [if_neg (by rintro (h | ⟨h, -⟩); exacts [c1 h, c2 h])]; simp [c1, c2, Scalar.select, IntOp.ori, IntOp.andi]

theorem argmax_or (a b : EReal × BitVec 32) : reducer_argmax_f32_i32 (F := Ideal) a b = a ∨ reducer_argmax_f32_i32 (F := Ideal) a b = b := by
  rw [argmax_cases]; split
  · exact .inl rfl
  · exact .inr rfl
theorem argmax_left (a b : EReal × BitVec 32) : Above (reducer_argmax_f32_i32 (F := Ideal) a b) a := by
  rw [argmax_cases]
  split
  · exact Above.refl a
  · next h =>
    rw [not_or, not_and, not_lt, not_lt] at h
    rcases lt_or_eq_of_le h.1 with h' | h'
    · exact .inl h'
    · exact .inr ⟨h'.symm, h.2 h'⟩
theorem argmax_right (a b : EReal × BitVec 32) : Above (reducer_argmax_f32_i32 (F := Ideal) a b) b := by
  rw [argmax_cases]
  split
  · next h =>
    rcases h with h | ⟨h, h'⟩
    · exact .inl h
    · exact .inr ⟨h, h'.le⟩
  · exact Above.refl b
theorem argmin_or (a b : EReal × BitVec 32) : reducer_argmin_f32_i32 (F := Ideal) a b = a ∨ reducer_argmin_f32_i32 (F := Ideal) a b = b := by
  rw [argmin_cases]; split
  · exact .inl rfl
  · exact .inr rfl
theorem argmin_left (a b : EReal × BitVec 32) : Below (reducer_argmin_f32_i32 (F := Ideal) a b) a := by
  rw [argmin_cases]
  split
  · exact Below.refl a
  · next h =>
    rw [not_or, not_and, not_lt, not_lt] at h
    rcases lt_or_eq_of_le h.1 with h' | h'
    · exact .inl h'
    · exact .inr ⟨h', h.2 h'.symm⟩
theorem argmin_right (a b : EReal × BitVec 32) : Below (reducer_argmin_f32_i32 (F := Ideal) a b) b := by
  rw [argmin_cases]
  split
  · next h =>
    rcases h with h | ⟨h, h'⟩
    · exact .inl h
    · exact .inr ⟨h, h'.le⟩
  · exact Below.refl b

/-- Row `i`'s scores with their columns are what the fold at `i` runs over. -/
theorem fiber_mem (s : FVec Ideal S30x4096 .f32) (i : Fin 30) :
    (∀ p ∈ Host.argReduceFiber s (iotaInDim S30x4096 32 1) reducesTo_S30x4096_S30_d1 (ix1 i), ∃ k : Fin 4096, p = (s (ix2 i k), BitVec.ofNat 32 k.val))
    ∧ ∀ k : Fin 4096, (s (ix2 i k), BitVec.ofNat 32 k.val) ∈ Host.argReduceFiber s (iotaInDim S30x4096 32 1) reducesTo_S30x4096_S30_d1 (ix1 i) := by
  constructor
  · intro p hp
    obtain ⟨n, hn, rfl⟩ := List.mem_map.1 hp
    have hd := of_decide_eq_true (List.mem_filter.1 hn).2
    generalize S30x4096.rowMajor.symm n = j at hd ⊢
    idx_vars j
    have hj : j0 = i := congrFun ((drop_eq j0 j1).symm.trans hd) 0
    exact ⟨j1, by rw [hj]; rfl⟩
  · intro k
    refine List.mem_map.2 ⟨S30x4096.rowMajor (ix2 i k), List.mem_filter.2 ⟨List.mem_finRange _, ?_⟩, ?_⟩
    · rw [Equiv.symm_apply_apply]
      exact decide_eq_true (drop_eq i k)
    · rw [Equiv.symm_apply_apply]
      rfl

/-- The drawn column. -/
theorem argmaxOf_eq (s : FVec Ideal S30x4096 .f32) (i : Fin 30) (c : Fin 4096) (hc : FirstMax (fun k => s (ix2 i k)) c) (hb : s (ix2 i c) ≠ (⊥ : EReal)) :
    argmaxOf s (ix1 i) = BitVec.ofNat 32 c.val := by
  obtain ⟨h1, h2⟩ := fiber_mem s i
  unfold argmaxOf
  rw [Ideal.argReduce_eq_reduce2, Host.reduce2_eq_foldl_fiber]
  have hi : (constant (F := Ideal) S_ .f32 0xFF800000#32 (Shape.Idx.first h_S_), constantI S_ 32 0#32 (Shape.Idx.first h_S_)) = ((⊥ : EReal), 0#32) :=
    Prod.ext negInf_eq rfl
  rw [hi]
  generalize Host.argReduceFiber s (iotaInDim S30x4096 32 1) reducesTo_S30x4096_S30_d1 (ix1 i) = L at h1 h2 ⊢
  have key := fold_argmax (n := 4096) le_rfl (reducer_argmax_f32_i32 (F := Ideal)) argmax_or argmax_left argmax_right L (fun k => s (ix2 i k)) h1 h2 hc hb
  exact key

/-- The ants' lengths with their numbers are what the choice's fold runs over. -/
theorem fiber_mem_ants (l : FVec Ideal S30 .f32) (j : S_.Idx) :
    (∀ p ∈ Host.argReduceFiber l (iotaInDim S30 32 0) reducesTo_S30_S_d0 j, ∃ k : Fin 30, p = (l (ix1 k), BitVec.ofNat 32 k.val))
    ∧ ∀ k : Fin 30, (l (ix1 k), BitVec.ofNat 32 k.val) ∈ Host.argReduceFiber l (iotaInDim S30 32 0) reducesTo_S30_S_d0 j := by
  constructor
  · intro p hp
    obtain ⟨n, hn, rfl⟩ := List.mem_map.1 hp
    generalize S30.rowMajor.symm n = j
    idx_vars j
    exact ⟨j0, rfl⟩
  · intro k
    refine List.mem_map.2 ⟨S30.rowMajor (ix1 k), List.mem_filter.2 ⟨List.mem_finRange _, decide_eq_true (funext fun a => a.elim0)⟩, ?_⟩
    rw [Equiv.symm_apply_apply]
    rfl

/-- The chosen ant. -/
theorem argminOf_eq (l : FVec Ideal S30 .f32) (b : Fin 30) (hb : FirstMin (fun k => l (ix1 k)) b) (ht : l (ix1 b) ≠ (⊤ : EReal)) (j : S_.Idx) :
    argminOf l j = BitVec.ofNat 32 b.val := by
  obtain ⟨h1, h2⟩ := fiber_mem_ants l j
  unfold argminOf
  rw [Ideal.argReduce_eq_reduce2, Host.reduce2_eq_foldl_fiber]
  have hi : (constant (F := Ideal) S_ .f32 0x7F800000#32 (Shape.Idx.first h_S_), constantI S_ 32 0#32 (Shape.Idx.first h_S_)) = ((⊤ : EReal), 0#32) :=
    Prod.ext posInf_eq rfl
  rw [hi]
  generalize Host.argReduceFiber l (iotaInDim S30 32 0) reducesTo_S30_S_d0 j = L at h1 h2 ⊢
  have key := fold_argmin (n := 30) (by decide) (reducer_argmin_f32_i32 (F := Ideal)) argmin_or argmin_left argmin_right L (fun k => l (ix1 k)) h1 h2 hb ht
  exact key

/-! ## The visited trail -/

theorem antNumbers_eq (i : Fin 30) : antNumbers (ix1 i) = BitVec.ofNat 32 i.val := by
  pointwise [antNumbers]
  have := i.isLt
  exact Routing.wrap_of_lt _ _ (by rw [BitVec.toNat_ofNat]; omega)

theorem columns_eq (nxt : IVec S30 32) (i : Fin 30) (c : Fin 4096) (h : nxt (ix1 i) = BitVec.ofNat 32 c.val) : columns nxt (ix1 i) = BitVec.ofNat 32 c.val := by
  pointwise [columns]
  rw [h]
  have := c.isLt
  exact Routing.wrap_of_lt _ _ (by rw [BitVec.toNat_ofNat]; omega)

/-- Update `a` lands at the row and the column its two words name. -/
theorem lands (q : IVec S30x2 32) (a i : Fin 30) (k : Fin 4096) :
    scatter_S30x4096_S30x2_S30_n_01_01_1.resultIdx? (ix1 a) q = some (ix2 i k) ↔ (q (ix2 a 0)).toInt = i.val ∧ (q (ix2 a 1)).toInt = k.val := by
  have hw : ∀ b : Fin 2, scatter_S30x4096_S30x2_S30_n_01_01_1.window (ix1 a) b = 0 := fun b => by
    unfold ScatterDims.window
    rw [dif_neg (by fin_cases b <;> decide)]
  have hm : ∀ b : Fin 2, b ∈ scatter_S30x4096_S30x2_S30_n_01_01_1.scatterDimsToOperandDims := fun b => by fin_cases b <;> decide
  have hs : ∀ b : Fin 2, scatter_S30x4096_S30x2_S30_n_01_01_1.start (ix1 a) q b = (q (ix2 a b)).toInt := fun b => by
    unfold ScatterDims.start
    rw [dif_pos (hm b)]
    refine congrArg (fun z => (q z).toInt) (funext fun z => Fin.ext ?_)
    fin_cases b <;> match z with
      | ⟨0, _⟩ => rfl
      | ⟨1, _⟩ => rfl
  refine (Routing.resultIdx?_ix2 scatter_S30x4096_S30x2_S30_n_01_01_1 (ix1 a) q i k).trans ?_
  rw [hs 0, hs 1, hw 0, hw 1]
  simp

theorem visited_eq (ap : FVec Ideal S30x4096 .f32) (nxt : IVec S30 32) (c : Fin 30 → Fin 4096) (h : ∀ i, nxt (ix1 i) = BitVec.ofNat 32 (c i).val)
    (i : Fin 30) (k : Fin 4096) : visited ap nxt (ix2 i k) = visit (fun k => ap (ix2 i k)) (c i) k := by
  unfold visited
  have hidx0 : ∀ a : Fin 30, concatenate S30x2 1 [⟨S30x1, broadcastInDim S30x1 ![0] bcast_S30_S30x1_0 antNumbers⟩, ⟨S30x1, broadcastInDim S30x1 ![0] bcast_S30_S30x1_0 (columns nxt)⟩]
      concatenates_S30x1_S30x1_S30x2_d1 (ix2 a 0) = BitVec.ofNat 32 a.val := fun a => by
    rw [← antNumbers_eq a]
    pointwise []
  have hidx1 : ∀ a : Fin 30, concatenate S30x2 1 [⟨S30x1, broadcastInDim S30x1 ![0] bcast_S30_S30x1_0 antNumbers⟩, ⟨S30x1, broadcastInDim S30x1 ![0] bcast_S30_S30x1_0 (columns nxt)⟩]
      concatenates_S30x1_S30x1_S30x2_d1 (ix2 a 1) = BitVec.ofNat 32 (c a).val := fun a => by
    rw [← columns_eq nxt a (c a) (h a)]
    pointwise []
  generalize concatenate S30x2 1 [⟨S30x1, broadcastInDim S30x1 ![0] bcast_S30_S30x1_0 antNumbers⟩, ⟨S30x1, broadcastInDim S30x1 ![0] bcast_S30_S30x1_0 (columns nxt)⟩]
      concatenates_S30x1_S30x1_S30x2_d1 = q at hidx0 hidx1 ⊢
  have hl : ∀ a k, scatter_S30x4096_S30x2_S30_n_01_01_1.resultIdx? (ix1 a) q = some (ix2 i k) ↔ a = i ∧ c a = k := fun a k => by
    have h1 := i.isLt
    have h2 := a.isLt
    have h3 := (c a).isLt
    have h4 := k.isLt
    rw [lands, hidx0, hidx1, toInt_small (by omega), toInt_small (by omega), Fin.ext_iff, Fin.ext_iff]
    omega
  by_cases hk : k = c i
  · rw [visit, if_pos hk]
    refine Routing.scatter_set_hit _ _ _ _ _ _ (fun j _ => ?_) (ix1 i) ((hl i k).2 ⟨rfl, hk.symm⟩)
    exact Ideal.ofBits_one_f32
  · rw [visit, if_neg hk]
    refine Routing.scatter_set_miss _ _ _ _ _ fun j hj => ?_
    idx_vars j
    obtain ⟨h1, h2⟩ := (hl j0 k).1 hj
    exact hk (by rw [← h2, h1])

/-! ## The choice -/

theorem lensOf_eq (np : FVec Ideal S30x4096 .f32) (i : Fin 30) : lensOf np (ix1 i) = Ideal.sqrt (squares fun k => np (ix2 i k)) := by
  pointwise [lensOf]
  rfl

theorem antAt_eq (best : IVec S_ 32) (b : Fin 30) (h : ∀ j, best j = BitVec.ofNat 32 b.val) (j : S_.Idx) : antAt best j = BitVec.ofNat 32 b.val := by
  have := b.isLt
  show Scalar.select (IntOp.cmpi .slt (best j) 0#32) _ (best j) = _
  rw [h j]
  exact Routing.wrap_of_lt _ _ (by rw [BitVec.toNat_ofNat]; omega)

theorem betterOf_eq (l : FVec Ideal S30 .f32) (a : IVec S_ 32) (b : Fin 30) (h : ∀ j, a j = BitVec.ofNat 32 b.val) (blen : FVec Ideal S_ .f32) :
    betterOf l a blen ix0 = if l (ix1 b) < blen ix0 then 1#1 else 0#1 := by
  pointwise [betterOf]
  simp only [h]
  have hc : ∀ p, Host.clampedStart S30 S1 p (fun _ => (BitVec.ofNat 32 b.val).toInt) 0 = b.val := fun p =>
    Host.clampedStart_of_le p _ 0 b.val (toInt_small (by omega)) (by show b.val + 1 ≤ 30; omega)
  simp only [hc]
  by_cases hl : l (ix1 b) < blen ix0
  · rw [if_pos hl, decide_eq_true hl]; rfl
  · rw [if_neg hl, decide_eq_false hl]; rfl

theorem rowAt_eq (np : FVec Ideal S30x4096 .f32) (a : IVec S_ 32) (b : Fin 30) (h : ∀ j, a j = BitVec.ofNat 32 b.val) (k : Fin 4096) :
    rowAt np a colZero (ix1 k) = np (ix2 b k) := by
  pointwise [rowAt]
  have hc : ∀ p, Host.clampedStart S30x4096 S1x4096 p (fun k => ((![a, colZero] : Fin 2 → IVec S_ 32) k (Shape.Idx.first h_S_)).toInt) 0 = b.val := fun p =>
    Host.clampedStart_of_le p _ 0 b.val (by show (a (Shape.Idx.first h_S_)).toInt = _; rw [h]; exact toInt_small (by omega)) (by show b.val + 1 ≤ 30; omega)
  have hz : ∀ p, Host.clampedStart S30x4096 S1x4096 p (fun k => ((![a, colZero] : Fin 2 → IVec S_ 32) k (Shape.Idx.first h_S_)).toInt) 1 = 0 := fun p =>
    Host.clampedStart_of_le p _ 1 0 (by rfl) (by show 0 + 4096 ≤ 4096; omega)
  refine congrArg np (funext fun z => ?_)
  match z with
  | ⟨0, _⟩ => exact Fin.ext (hc rfl)
  | ⟨1, _⟩ => exact Fin.ext (by show _ + k.val = k.val; rw [hz rfl]; omega)

/-- The mask, its choice read. -/
theorem maskOf_eq (np : FVec Ideal S30x4096 .f32) (best : IVec S_ 32) (b : Fin 30) (h : ∀ j, best j = BitVec.ofNat 32 b.val) (blen : FVec Ideal S_ .f32)
    (bp : FVec Ideal S4096 .f32) (k : Fin 4096) :
    maskOf np (lensOf np) best blen bp (ix1 k) = if Ideal.sqrt (squares fun k => np (ix2 b k)) < blen ix0 then np (ix2 b k) else bp (ix1 k) := by
  have h1 := antAt_eq best b h
  have h2 := betterOf_eq (lensOf np) (antAt best) b h1 blen
  have h3 := rowAt_eq np (antAt best) b h1 k
  rw [lensOf_eq] at h2
  pointwise [maskOf]
  rw [h2, h3]
  split <;> rfl

end Cert.ReferenceIdeal.Hand

end
-- ==== Proof.RefMask.lean ====
/-
  The reference's mask, given the columns of the kernel's draw: where the draw is decided the reference draws the same columns,
  so its mask is the same expression of the paths, the best path and its length.
-/
module

public import proofs.«01_k».proof.Proof.RefValue
public import proofs.«01_k».proof.Proof.Draw

@[expose] public section

set_option maxRecDepth 16384

noncomputable section

namespace Cert.ReferenceIdeal.Hand

open Cert.ReferenceIdeal Cert.ReferenceIdeal.Gen Cert.Draw
open Idealize.ShloMosaic

/-- One row of the draw: with real trails within 20 of their largest, and every near column's trail equal to the best one's, the
    reference's score is a real number and is first largest where trail plus noise is. -/
theorem score_first (n : FVec Ideal S30x4096 .f32) (t : FVec Ideal S4096x4096 .f32) (pos : IVec S30 32) (i : Fin 30) (b c : Fin 4096)
    (hb : pos (ix1 i) = BitVec.ofNat 32 b.val) (r g : Fin 4096 → ℝ) (hr : ∀ k, t (ix2 b k) = ((r k : ℝ) : EReal))
    (hg : ∀ k, n (ix2 i k) = ((g k : ℝ) : EReal)) (h20 : ∀ j k, r j - 20 ≤ r k)
    (hc : FirstMax (fun k => ((r k + g k : ℝ) : EReal)) c)
    (hnear : ∀ k, r c + g c - 8796093 * (2 : ℝ) ^ (-43 : ℤ) < r k + g k → r k = r c) :
    FirstMax (fun k => scoresOf n (takeOf (probsOf t) pos) (ix2 i k)) c ∧ scoresOf n (takeOf (probsOf t) pos) (ix2 i c) ≠ (⊥ : EReal) := by
  obtain ⟨m, hm⟩ := Finite.exists_max r
  have hs : ∀ k, scoresOf n (takeOf (probsOf t) pos) (ix2 i k)
      = ((g k + Real.log (Real.exp (r k - r m) * (1 / ∑ j, Real.exp (r j - r m)) + 12379400 * (2 : ℝ) ^ (-90 : ℤ)) : ℝ) : EReal) := fun k =>
    scoresOf_eq n _ i k (g k) _ (hg k) ((takeOf_eq (probsOf t) pos i k b hb).trans (probsOf_eq t b m r hr hm k))
      (mul_nonneg (Real.exp_pos _).le (one_div_nonneg.2 (Finset.sum_nonneg fun j _ => (Real.exp_pos _).le)))
  have ha := scores_agree (n := 4096) (by norm_num) r g (r m) _ _ hm (fun k => h20 m k) small_pos small_lt_margin c hnear
  refine ⟨⟨fun k => ?_, fun k hk => ?_⟩, ?_⟩
  · show scoresOf n _ (ix2 i k) ≤ scoresOf n _ (ix2 i c)
    rw [hs, hs, EReal.coe_le_coe_iff]
    exact (ha k).1 (EReal.coe_le_coe_iff.1 (hc.1 k))
  · show scoresOf n _ (ix2 i k) < scoresOf n _ (ix2 i c)
    rw [hs, hs, EReal.coe_lt_coe_iff]
    exact (ha k).2 (EReal.coe_lt_coe_iff.1 (hc.2 k hk))
  · rw [hs]
    exact EReal.coe_ne_bot _

/-- The square roots of the squares of real rows are ordered as the squares are. -/
theorem sqrt_lt_iff {n : ℕ} (a b : Fin n → ℝ) :
    squares (fun k => ((a k : ℝ) : EReal)) < squares (fun k => ((b k : ℝ) : EReal))
      ↔ Ideal.sqrt (squares fun k => ((a k : ℝ) : EReal)) < Ideal.sqrt (squares fun k => ((b k : ℝ) : EReal)) := by
  have ha : 0 ≤ ∑ k, a k * a k := Finset.sum_nonneg fun k _ => mul_self_nonneg _
  have hb : 0 ≤ ∑ k, b k * b k := Finset.sum_nonneg fun k _ => mul_self_nonneg _
  rw [squares_coe, squares_coe, Ideal.sqrt_coe, Ideal.sqrt_coe, if_neg (not_lt.2 ha), if_neg (not_lt.2 hb), EReal.coe_lt_coe_iff,
    EReal.coe_lt_coe_iff]
  exact (Real.sqrt_lt_sqrt_iff ha).symm

/-- The length of a real row is a real number. -/
theorem sqrt_ne_top {n : ℕ} (a : Fin n → ℝ) : Ideal.sqrt (squares fun k => ((a k : ℝ) : EReal)) ≠ (⊤ : EReal) := by
  have ha : 0 ≤ ∑ k, a k * a k := Finset.sum_nonneg fun k _ => mul_self_nonneg _
  rw [squares_coe, Ideal.sqrt_coe, if_neg (not_lt.2 ha)]
  exact EReal.coe_ne_top _

/-- The mask, from paths already visited. -/
theorem maskOf_visited (np ap : FVec Ideal S30x4096 .f32) (c : Fin 30 → Fin 4096)
    (hnp : ∀ i k, np (ix2 i k) = visit (fun k => ap (ix2 i k)) (c i) k) (a : Fin 30 → Fin 4096 → ℝ)
    (ha : ∀ i k, ap (ix2 i k) = ((a i k : ℝ) : EReal)) (b : Fin 30)
    (hb : FirstMin (fun i => squares (visit (fun k => ap (ix2 i k)) (c i))) b) (bp : FVec Ideal S4096 .f32) (bl : FVec Ideal S_ .f32) (k : Fin 4096) :
    maskOf np (lensOf np) (argminOf (lensOf np)) bl bp (ix1 k)
      = if Ideal.sqrt (squares (visit (fun k => ap (ix2 b k)) (c b))) < bl ix0 then visit (fun k => ap (ix2 b k)) (c b) k else bp (ix1 k) := by
  have hv : ∀ i, (visit (fun k => ap (ix2 i k)) (c i)) = fun k => ((visitR (a i) (c i) k : ℝ) : EReal) := fun i => by
    rw [show (fun k => ap (ix2 i k)) = fun k => ((a i k : ℝ) : EReal) from funext (ha i)]
    exact funext (visit_coe (a i) (c i))
  have hn : ∀ i, (fun k => np (ix2 i k)) = visit (fun k => ap (ix2 i k)) (c i) := fun i => funext (hnp i)
  have hl : ∀ i, lensOf np (ix1 i) = Ideal.sqrt (squares (visit (fun k => ap (ix2 i k)) (c i))) := fun i => by rw [lensOf_eq, hn]
  have hmin : FirstMin (fun i => lensOf np (ix1 i)) b := by
    refine FirstMin.congr_strict (fun i j => ?_) hb
    rw [hl, hl, hv, hv]
    exact sqrt_lt_iff _ _
  have hbest : ∀ j, argminOf (lensOf np) j = BitVec.ofNat 32 b.val := argminOf_eq (lensOf np) b hmin (by rw [hl, hv]; exact sqrt_ne_top _)
  rw [maskOf_eq np _ b hbest bl bp k, hn, hnp]

/-- The mask the reference computes from its arguments, where the draw of every ant is decided. -/
theorem maskRef_eq (t : FVec Ideal S4096x4096 .f32) (pos : IVec S30 32) (ap : FVec Ideal S30x4096 .f32) (bp : FVec Ideal S4096 .f32) (bl : FVec Ideal S_ .f32)
    (p c : Fin 30 → Fin 4096) (hp : ∀ i, pos (ix1 i) = BitVec.ofNat 32 (p i).val) (r g a : Fin 30 → Fin 4096 → ℝ)
    (hr : ∀ i k, t (ix2 (p i) k) = ((r i k : ℝ) : EReal)) (hg : ∀ i k, noise (F := Ideal) (ix2 i k) = ((g i k : ℝ) : EReal))
    (ha : ∀ i k, ap (ix2 i k) = ((a i k : ℝ) : EReal)) (h20 : ∀ i j k, r i j - 20 ≤ r i k)
    (hc : ∀ i, FirstMax (fun k => ((r i k + g i k : ℝ) : EReal)) (c i))
    (hnear : ∀ i k, r i (c i) + g i (c i) - 8796093 * (2 : ℝ) ^ (-43 : ℤ) < r i k + g i k → r i k = r i (c i)) (b : Fin 30)
    (hb : FirstMin (fun i => squares (visit (fun k => ap (ix2 i k)) (c i))) b) (k : Fin 4096) :
    maskRef t pos ap bp bl (ix1 k)
      = if Ideal.sqrt (squares (visit (fun k => ap (ix2 b k)) (c b))) < bl ix0 then visit (fun k => ap (ix2 b k)) (c b) k else bp (ix1 k) := by
  refine maskOf_visited (pathsOf t pos ap) ap c (fun i k => ?_) a ha b hb bp bl k
  refine visited_eq ap _ c (fun i => ?_) i k
  obtain ⟨h1, h2⟩ := score_first noise t pos i (p i) (c i) (hp i) (r i) (g i) (hr i) (hg i) (h20 i) (hc i) (hnear i)
  exact argmaxOf_eq _ i (c i) h1 h2

end Cert.ReferenceIdeal.Hand

end
-- ==== Proof.Decided.lean ====
/-
  What the precondition on the draw says over the extended reals: the paths, the trails of the thirty rows and the scores are real
  numbers, each row of trails lies within 20 of its largest, and the columns whose score is near the best carry one trail.
-/
module

public import proofs.«01_k».proof.Proof.Pre
public import proofs.«01_k».proof.Proof.Folds
public import proofs.«01_k».proof.Proof.Draw
public import Idealize.ShloMosaic.Lib.Pointwise
public import Idealize.ShloMosaic.Lib.Routing.Ops

@[expose] public section

set_option maxRecDepth 16384

noncomputable section

namespace Cert.Pre_draw_is_decided

open Idealize.ShloMosaic Cert.Draw Facts

/-! ## The five conditions, by name -/

/-- The noise. -/
def table : FVec Ideal S30x4096 .f32 := fun i => FloatOps.ofBits .f32 (lit0 (S30x4096.rowMajor i))
/-- Each row's largest entry. -/
def topOf (s : FVec Ideal S30x4096 .f32) : FVec Ideal S30 .f32 :=
  Host.reduce FloatOps.maximumf s (constant S_ .f32 0xFF800000#32) reducesTo_S30x4096_S30_d1 h_S_
/-- A value per row less a constant, spread over the row. -/
def lessOf (t : FVec Ideal S30 .f32) (b : BitVec 32) : FVec Ideal S30x4096 .f32 :=
  broadcastInDim S30x4096 ![0, 1] bcast_S30x1_S30x4096_0_1
    (subf (broadcastInDim S30x1 ![0] bcast_S30_S30x1_0 t) (broadcastInDim S30x1 ![] bcast_S_S30x1 (constant S_ .f32 b)))
/-- The columns whose score is near the row's best. -/
def nearOf (s : FVec Ideal S30x4096 .f32) : IVec S30x4096 1 := cmpf .ogt s (lessOf (topOf s) 0x358637BD#32)
/-- The trails within 20 of the row's largest. -/
def withinOf (r : FVec Ideal S30x4096 .f32) : IVec S30x4096 1 := cmpf .oge r (lessOf (topOf r) 0x41A00000#32)
/-- The entries whose absolute value is below infinity. -/
def finiteOf (u : FVec Ideal S30x4096 .f32) : IVec S30x4096 1 :=
  cmpf .olt (Host.absf u) (broadcastInDim S30x4096 ![] bcast_S_S30x4096 (constant S_ .f32 0x7F800000#32))
/-- The columns not near the best, or whose trail is the row's given value. -/
def sameOf (n : IVec S30x4096 1) (r : FVec Ideal S30x4096 .f32) (w : FVec Ideal S30 .f32) : IVec S30x4096 1 :=
  ori (noti n) (cmpf .oeq r (broadcastInDim S30x4096 ![0, 1] bcast_S30x1_S30x4096_0_1 (broadcastInDim S30x1 ![0] bcast_S30_S30x1_0 w)))

variable {a0 : FVec Ideal S2x4096x4096 .f32} {a1 : FVec Ideal S4096x4096 .f32} {a2 : IVec S30 32} {a3 : FVec Ideal S30x4096 .f32}
  {a4 : FVec Ideal S4096 .f32} {a5 a6 a7 : FVec Ideal S_ .f32}

theorem paths_one (h : (fn a0 a1 a2 a3 a4 a5 a6 a7).2.1 = fun _ => 1#1) : finiteOf a3 = fun _ => 1#1 := h
theorem scores_one (h : (fn a0 a1 a2 a3 a4 a5 a6 a7).2.2.1 = fun _ => 1#1) : finiteOf (addf (fn_take a1 a2) table) = fun _ => 1#1 := h
theorem within_one (h : (fn a0 a1 a2 a3 a4 a5 a6 a7).2.2.2.1 = fun _ => 1#1) : withinOf (fn_take a1 a2) = fun _ => 1#1 := h
theorem same_one (h : (fn a0 a1 a2 a3 a4 a5 a6 a7).2.2.2.2 = fun _ => 1#1) :
    sameOf (nearOf (addf (fn_take a1 a2) table)) (fn_take a1 a2) (topOf (fn_where (nearOf (addf (fn_take a1 a2) table)) (fn_take a1 a2)
      (constant S_ .f32 0xFF800000#32))) = fun _ => 1#1 := h

/-! ## At one entry -/

theorem fold_top_eq (s : FVec Ideal S30x4096 .f32) (i : Fin 30) (m : Fin 4096) (hm : ∀ k, s (ix2 i k) ≤ s (ix2 i m)) : topOf s (ix1 i) = s (ix2 i m) := by
  have h : topOf s (ix1 i) = Finset.univ.fold max (constant (F := Ideal) S_ .f32 0xFF800000#32 (Shape.Idx.first h_S_)) fun k : Fin 4096 => s (ix2 i k) := by
    unfold topOf
    simp only [pointwise]
  have hb : constant (F := Ideal) S_ .f32 0xFF800000#32 (Shape.Idx.first h_S_) = (⊥ : EReal) := negInf_eq
  rw [h, hb]
  exact fold_max_top _ (fun _ _ => rfl) (fun k => s (ix2 i k)) m hm

theorem less_eq (t : FVec Ideal S30 .f32) (b : BitVec 32) (i : Fin 30) (k : Fin 4096) :
    lessOf t b (ix2 i k) = t (ix1 i) - Ideal.ofBits .f32 b := by
  unfold lessOf
  simp only [pointwise]
  rfl

theorem near_eq (s : FVec Ideal S30x4096 .f32) (i : Fin 30) (k : Fin 4096) :
    nearOf s (ix2 i k) = BitVec.ofBool (decide (lessOf (topOf s) 0x358637BD#32 (ix2 i k) < s (ix2 i k))) := rfl

theorem oge_eq (x y : EReal) : FloatOps.cmpf (F := Ideal) (φ := .f32) .oge x y = BitVec.ofBool (decide (y ≤ x)) := rfl

theorem within_eq (r : FVec Ideal S30x4096 .f32) (i : Fin 30) (k : Fin 4096) :
    withinOf r (ix2 i k) = BitVec.ofBool (decide (lessOf (topOf r) 0x41A00000#32 (ix2 i k) ≤ r (ix2 i k))) := by
  unfold withinOf
  exact oge_eq _ _

theorem finite_eq (u : FVec Ideal S30x4096 .f32) (i : Fin 30) (k : Fin 4096) :
    finiteOf u (ix2 i k) = BitVec.ofBool (decide (max (u (ix2 i k)) (-u (ix2 i k)) < Ideal.ofBits .f32 0x7F800000#32)) := rfl

/-- An entry whose absolute value is below infinity is a real number. -/
theorem real_of_finite {u : FVec Ideal S30x4096 .f32} (h : finiteOf u = fun _ => 1#1) (i : Fin 30) (k : Fin 4096) :
    ∃ x : ℝ, u (ix2 i k) = ((x : ℝ) : EReal) := by
  have h1 := congrFun h (ix2 i k)
  rw [finite_eq, Cert.Pre_positions_in_range.ofBool_one, decide_eq_true_iff, posInf_eq, max_lt_iff] at h1
  generalize u (ix2 i k) = z at h1
  induction z using EReal.rec with
  | bot => exact absurd h1.2 (by simp)
  | top => exact absurd h1.1 (by simp)
  | coe x => exact ⟨x, rfl⟩

/-- Where a sum is a real number, so are its terms. -/
theorem real_of_add {y z : EReal} {x : ℝ} (h : y + z = ((x : ℝ) : EReal)) : (∃ a : ℝ, y = ((a : ℝ) : EReal)) ∧ ∃ b : ℝ, z = ((b : ℝ) : EReal) := by
  induction y using EReal.rec with
  | bot => rw [EReal.bot_add] at h; exact absurd h (EReal.bot_ne_coe x)
  | top =>
    induction z using EReal.rec with
    | bot => rw [EReal.add_bot] at h; exact absurd h (EReal.bot_ne_coe x)
    | top => rw [EReal.top_add_top] at h; exact absurd h (EReal.top_ne_coe x)
    | coe b => rw [EReal.top_add_coe] at h; exact absurd h (EReal.top_ne_coe x)
  | coe a =>
    refine ⟨⟨a, rfl⟩, ?_⟩
    induction z using EReal.rec with
    | bot => rw [EReal.add_bot] at h; exact absurd h (EReal.bot_ne_coe x)
    | top => rw [EReal.coe_add_top] at h; exact absurd h (EReal.top_ne_coe x)
    | coe b => exact ⟨b, rfl⟩

/-- Real trails, each above its row's largest less 20, are within 20 of each other. -/
theorem within_20 {r : FVec Ideal S30x4096 .f32} (h : withinOf r = fun _ => 1#1) (i : Fin 30) (q : Fin 4096 → ℝ)
    (hq : ∀ k, r (ix2 i k) = ((q k : ℝ) : EReal)) (j k : Fin 4096) : q j - 20 ≤ q k := by
  obtain ⟨m, hm⟩ := Finite.exists_max q
  have h1 := congrFun h (ix2 i k)
  rw [within_eq, Cert.Pre_positions_in_range.ofBool_one, decide_eq_true_iff, less_eq,
    fold_top_eq r i m (fun k => by rw [hq, hq]; exact EReal.coe_le_coe_iff.2 (hm k)), twenty_eq, hq, hq, ← EReal.coe_sub, EReal.coe_le_coe_iff] at h1
  have := hm j
  linarith

/-- A real score within the margin of the row's best is near. -/
theorem near_of (s : FVec Ideal S30x4096 .f32) (i : Fin 30) (q : Fin 4096 → ℝ) (hq : ∀ k, s (ix2 i k) = ((q k : ℝ) : EReal)) (c k : Fin 4096)
    (hc : ∀ k, q k ≤ q c) (h : q c - 8796093 * (2 : ℝ) ^ (-43 : ℤ) < q k) : nearOf s (ix2 i k) = 1#1 := by
  rw [near_eq, Cert.Pre_positions_in_range.ofBool_one, decide_eq_true_iff, less_eq,
    fold_top_eq s i c (fun k => by rw [hq, hq]; exact EReal.coe_le_coe_iff.2 (hc k)), margin_eq, hq, hq, ← EReal.coe_sub, EReal.coe_lt_coe_iff]
  exact h

/-- A near column's trail is the row's given value. -/
theorem same_of {n : IVec S30x4096 1} {r : FVec Ideal S30x4096 .f32} {w : FVec Ideal S30 .f32} (h : sameOf n r w = fun _ => 1#1) (i : Fin 30) (k : Fin 4096)
    (hn : n (ix2 i k) = 1#1) : r (ix2 i k) = w (ix1 i) := by
  have hs : broadcastInDim S30x4096 ![0, 1] bcast_S30x1_S30x4096_0_1 (broadcastInDim S30x1 ![0] bcast_S30_S30x1_0 w) (ix2 i k) = w (ix1 i) := by
    pointwise []
  have h1 : sameOf n r w (ix2 i k) = IntOp.ori (~~~(n (ix2 i k))) (BitVec.ofBool (decide (r (ix2 i k)
      = broadcastInDim S30x4096 ![0, 1] bcast_S30x1_S30x4096_0_1 (broadcastInDim S30x1 ![0] bcast_S30_S30x1_0 w) (ix2 i k)))) := rfl
  rw [congrFun h (ix2 i k), hn, hs] at h1
  by_contra hne
  rw [decide_eq_false hne] at h1
  exact absurd h1 (by decide)

/-- Row `i` of the taken trails is the row its position names. -/
theorem take_eq (t : FVec Ideal S4096x4096 .f32) (pos : IVec S30 32) (i : Fin 30) (k b : Fin 4096) (h : pos (ix1 i) = BitVec.ofNat 32 b.val) :
    fn_take t pos (ix2 i k) = t (ix2 b k) := by
  have h0 : broadcastInDim S30x1 ![0] bcast_S30_S30x1_0 pos (ix2 i 0) = pos (ix1 i) := by pointwise []
  exact Routing.gather_row gather_S4096x4096_S30x1_S30x4096_1_0_n_n_0_1_14096 rfl rfl rfl rfl rfl t _ i k b (h0.trans h) (by decide)

/-! ## The draw -/

/-- The five conditions, in real numbers: `p` names the rows, `r` holds their trails, `g` the noise, `a` the paths. -/
theorem decided (h1 : (fn a0 a1 a2 a3 a4 a5 a6 a7).1 = fun _ => 1#1) (h2 : (fn a0 a1 a2 a3 a4 a5 a6 a7).2.1 = fun _ => 1#1)
    (h3 : (fn a0 a1 a2 a3 a4 a5 a6 a7).2.2.1 = fun _ => 1#1) (h4 : (fn a0 a1 a2 a3 a4 a5 a6 a7).2.2.2.1 = fun _ => 1#1)
    (h5 : (fn a0 a1 a2 a3 a4 a5 a6 a7).2.2.2.2 = fun _ => 1#1) :
    ∃ (p : Fin 30 → Fin 4096) (r g a : Fin 30 → Fin 4096 → ℝ), (∀ i, a2 (ix1 i) = BitVec.ofNat 32 (p i).val)
      ∧ (∀ i k, a1 (ix2 (p i) k) = ((r i k : ℝ) : EReal)) ∧ (∀ i k, table (ix2 i k) = ((g i k : ℝ) : EReal))
      ∧ (∀ i k, a3 (ix2 i k) = ((a i k : ℝ) : EReal)) ∧ (∀ i j k, r i j - 20 ≤ r i k)
      ∧ ∀ i c, (∀ k, r i k + g i k ≤ r i c + g i c) → ∀ k, r i c + g i c - 8796093 * (2 : ℝ) ^ (-43 : ℤ) < r i k + g i k → r i k = r i c := by
  have hp : ∀ i, a2 (ix1 i) = BitVec.ofNat 32 (⟨(a2 (ix1 i)).toNat, lt h1 (ix1 i)⟩ : Fin 4096).val := fun i => by simp
  have hs := scores_one h3
  have hsum : ∀ i k, (∃ x : ℝ, fn_take a1 a2 (ix2 i k) = ((x : ℝ) : EReal)) ∧ ∃ x : ℝ, table (ix2 i k) = ((x : ℝ) : EReal) := fun i k => by
    obtain ⟨x, hx⟩ := real_of_finite hs i k
    exact real_of_add hx
  choose r hr using fun i k => (hsum i k).1
  choose g hg using fun i k => (hsum i k).2
  choose a ha using fun i k => real_of_finite (paths_one h2) i k
  have hw := same_one h5
  refine ⟨_, r, g, a, hp, fun i k => (take_eq a1 a2 i k _ (hp i)).symm.trans (hr i k), hg, ha,
    fun i j k => within_20 (within_one h4) i (r i) (hr i) j k, fun i c hc k hk => ?_⟩
  have hq : ∀ k, addf (fn_take a1 a2) table (ix2 i k) = ((r i k + g i k : ℝ) : EReal) := fun k => by
    have : addf (fn_take a1 a2) table (ix2 i k) = fn_take a1 a2 (ix2 i k) + table (ix2 i k) := rfl
    rw [this, hr, hg, EReal.coe_add]
  have hpos : (0 : ℝ) < 8796093 * (2 : ℝ) ^ (-43 : ℤ) := by positivity
  have e1 := same_of hw i k (near_of _ i _ hq c k hc hk)
  have e2 := same_of hw i c (near_of _ i _ hq c c hc (by linarith))
  exact EReal.coe_injective ((hr i k).symm.trans ((e1.trans e2.symm).trans (hr i c)))

end Cert.Pre_draw_is_decided

end
-- ==== Proof.Noise.lean ====
/-
  The noise of the draw is one table, written out three times: in the kernel's program, in the reference's and in the
  precondition on the draw.
-/
module

public import proofs.«01_k».proof.KernelIdeal
public import proofs.«01_k».proof.ReferenceIdeal
public import proofs.«01_k».proof.Pre_draw_is_decided

@[expose] public section

set_option maxRecDepth 100000

noncomputable section

namespace Cert.Draw

set_option maxHeartbeats 0 in
/-- The kernel's table is the reference's. -/
theorem noise_kernel : Cert.KernelIdeal.lit0 = Cert.ReferenceIdeal.lit0 := rfl

set_option maxHeartbeats 0 in
/-- The precondition's table is the reference's. -/
theorem noise_pre : Cert.Pre_draw_is_decided.lit0 = Cert.ReferenceIdeal.lit0 := rfl

end Cert.Draw

end
-- ==== Proof.Agree.lean ====
/-
  The two programs' results agree: where the draw is decided the kernel's mask row is the reference's mask, and the kernel's result
  is the input times that row, as the reference's is.
-/
module

public import proofs.«01_k».proof.Proof.KernelValue
public import proofs.«01_k».proof.Proof.RefMask
public import proofs.«01_k».proof.Proof.Decided
public import proofs.«01_k».proof.Proof.Noise

@[expose] public section

set_option maxRecDepth 16384

noncomputable section

namespace Cert.Agree

open Idealize.ShloMosaic Cert.Draw

/-- A table of words as an array, in each program's name for the shape. -/
def spreadK (l : Fin 122880 → BitVec 32) : FVec Ideal Cert.KernelIdeal.S30x4096 .f32 := fun i => FloatOps.ofBits .f32 (l (Cert.KernelIdeal.S30x4096.rowMajor i))
def spreadR (l : Fin 122880 → BitVec 32) : FVec Ideal Cert.ReferenceIdeal.S30x4096 .f32 := fun i => FloatOps.ofBits .f32 (l (Cert.ReferenceIdeal.S30x4096.rowMajor i))
def spreadP (l : Fin 122880 → BitVec 32) : FVec Ideal Cert.Pre_draw_is_decided.S30x4096 .f32 := fun i => FloatOps.ofBits .f32 (l (Cert.Pre_draw_is_decided.S30x4096.rowMajor i))

theorem spread_kr (l : Fin 122880 → BitVec 32) : spreadK l = spreadR l := rfl
theorem spread_pr (l : Fin 122880 → BitVec 32) : spreadP l = spreadR l := rfl
theorem noise_k : Cert.KernelIdeal.Hand.noise = spreadK Cert.KernelIdeal.lit0 := rfl
theorem noise_r : Cert.ReferenceIdeal.Hand.noise (F := Ideal) = spreadR Cert.ReferenceIdeal.lit0 := rfl
theorem noise_p : Cert.Pre_draw_is_decided.table = spreadP Cert.Pre_draw_is_decided.lit0 := rfl

/-- The kernel's noise is the reference's. -/
theorem noise_eq : Cert.KernelIdeal.Hand.noise = Cert.ReferenceIdeal.Hand.noise (F := Ideal) :=
  noise_k.trans ((congrArg spreadK noise_kernel).trans ((spread_kr _).trans noise_r.symm))

/-- So is the precondition's. -/
theorem table_eq : Cert.Pre_draw_is_decided.table = Cert.ReferenceIdeal.Hand.noise (F := Ideal) :=
  noise_p.trans ((congrArg spreadP noise_pre).trans ((spread_pr _).trans noise_r.symm))

variable {x : FVec Ideal Cert.KernelIdeal.S2x4096x4096 .f32} {t : FVec Ideal Cert.KernelIdeal.S4096x4096 .f32} {pos : IVec Cert.KernelIdeal.S30 32}
  {ap : FVec Ideal Cert.KernelIdeal.S30x4096 .f32} {bp : FVec Ideal Cert.KernelIdeal.S4096 .f32} {bl a6 a7 : FVec Ideal Cert.KernelIdeal.S_ .f32}

/-- The kernel's mask row is the reference's mask. -/
theorem mask_eq (h1 : (Cert.Pre_draw_is_decided.fn x t pos ap bp bl a6 a7).1 = fun _ => 1#1)
    (h2 : (Cert.Pre_draw_is_decided.fn x t pos ap bp bl a6 a7).2.1 = fun _ => 1#1)
    (h3 : (Cert.Pre_draw_is_decided.fn x t pos ap bp bl a6 a7).2.2.1 = fun _ => 1#1)
    (h4 : (Cert.Pre_draw_is_decided.fn x t pos ap bp bl a6 a7).2.2.2.1 = fun _ => 1#1)
    (h5 : (Cert.Pre_draw_is_decided.fn x t pos ap bp bl a6 a7).2.2.2.2 = fun _ => 1#1) (k : Fin 4096) :
    Cert.KernelIdeal.Hand.maskRow (Cert.KernelIdeal.Hand.rowsOf (F := Ideal) pos t) Cert.KernelIdeal.Hand.noise ap
        ((shapeCast Cert.KernelIdeal.S1 bl Cert.KernelIdeal.Gen.shapeCasts_S_S1 : FVec Ideal Cert.KernelIdeal.S1 .f32) Cert.KernelIdeal.Hand.one0)
        (shapeCast Cert.KernelIdeal.S1x4096 bp Cert.KernelIdeal.Gen.shapeCasts_S4096_S1x4096) (ix2 0 k)
      = Cert.ReferenceIdeal.Hand.maskRef t pos ap bp bl (ix1 k) := by
  obtain ⟨p, r, g, a, hp, hr, hg, ha, h20, hnear⟩ := Cert.Pre_draw_is_decided.decided h1 h2 h3 h4 h5
  rw [table_eq] at hg
  choose c hc using fun i => exists_first (n := 4096) (by decide) fun k => ((r i k + g i k : ℝ) : EReal)
  obtain ⟨b, hb⟩ := exists_last (n := 30) (by decide) fun i => squares (visit (fun k => ap (ix2 i k)) (c i))
  have hc' : ∀ i, FirstMax (fun k => Cert.KernelIdeal.Hand.rowsOf (F := Ideal) pos t (ix2 i k) + Cert.KernelIdeal.Hand.noise (ix2 i k)) (c i) := fun i => by
    have e : (fun k => Cert.KernelIdeal.Hand.rowsOf (F := Ideal) pos t (ix2 i k) + Cert.KernelIdeal.Hand.noise (ix2 i k)) = fun k => ((r i k + g i k : ℝ) : EReal) := funext fun k => by
      rw [Cert.KernelIdeal.Hand.rows_eq pos t i k (p i) (hp i), noise_eq, hr, hg, EReal.coe_add]
    rw [e]
    exact hc i
  have hk := Cert.KernelIdeal.Hand.maskRow_eq (Cert.KernelIdeal.Hand.rowsOf (F := Ideal) pos t) Cert.KernelIdeal.Hand.noise ap
    ((shapeCast Cert.KernelIdeal.S1 bl Cert.KernelIdeal.Gen.shapeCasts_S_S1 : FVec Ideal Cert.KernelIdeal.S1 .f32) Cert.KernelIdeal.Hand.one0)
    (shapeCast Cert.KernelIdeal.S1x4096 bp Cert.KernelIdeal.Gen.shapeCasts_S4096_S1x4096) c hc' a ha b hb k
  have hr' := Cert.ReferenceIdeal.Hand.maskRef_eq t pos ap bp bl p c hp r g a hr hg ha h20 hc
    (fun i k => hnear i (c i) (fun k => EReal.coe_le_coe_iff.1 ((hc i).1 k)) k) b hb k
  rw [Cert.KernelIdeal.Hand.len_eq, Cert.KernelIdeal.Hand.best_eq] at hk
  exact hk.trans hr'.symm

/-- The reference's result at one entry. -/
theorem ref_out (x : FVec Ideal Cert.ReferenceIdeal.S2x4096x4096 .f32) (m : FVec Ideal Cert.ReferenceIdeal.S4096 .f32) (i : Fin 2) (j k : Fin 4096) :
    Cert.ReferenceIdeal.Hand.outOf x m (ix3 i j k) = x (ix3 i j k) * m (ix1 k) := by
  pointwise [Cert.ReferenceIdeal.Hand.outOf]

/-- The two results, from a mask row and a mask that agree. -/
theorem out_eq (row : FVec Ideal Cert.KernelIdeal.S1x4096 .f32) (mask : FVec Ideal Cert.KernelIdeal.S4096 .f32) (h : ∀ k : Fin 4096, row (ix2 0 k) = mask (ix1 k)) :
    (shapeCast Cert.KernelIdeal.S2x4096x4096 (Cert.KernelIdeal.Hand.productOf (Cert.KernelIdeal.Hand.colTable row)
        (shapeCast Cert.KernelIdeal.S8192x4096 x Cert.KernelIdeal.Gen.shapeCasts_S2x4096x4096_S8192x4096) row) Cert.KernelIdeal.Gen.shapeCasts_S8192x4096_S2x4096x4096
        : FVec Ideal Cert.KernelIdeal.S2x4096x4096 .f32)
      = Cert.ReferenceIdeal.Hand.outOf x mask := by
  funext ix
  obtain ⟨i, j, k, rfl⟩ : ∃ (i : Fin 2) (j k : Fin 4096), ix = ix3 i j k := ⟨ix 0, ix 1, ix 2, funext fun | ⟨0, _⟩ => rfl | ⟨1, _⟩ => rfl | ⟨2, _⟩ => rfl⟩
  rw [Cert.KernelIdeal.Hand.out_eq, h]
  exact (ref_out x mask i j k).symm

end Cert.Agree

end
-- ==== Proof.lean ====
/-
  The proof of `Cert.Claim`: the kernel and the reference run to the end over the extended reals, leave their arguments as
  launched and every counter at zero, and the kernel's result is the reference's wherever the draw is decided.
-/
module

public import proofs.«01_k».proof.Defs
public import proofs.«01_k».proof.Proof.Pre
public import proofs.«01_k».proof.Proof.Ends
public import proofs.«01_k».proof.Proof.RefRun
public import proofs.«01_k».proof.Proof.Agree

@[expose] public section

noncomputable section

namespace Cert.Proof

open Idealize.ShloMosaic Idealize.SL.Sem

/-- The idealized kernel runs, its arguments end as launched and every counter at zero. -/
theorem frame_ki : Cert.quiescent_KernelIdeal := by
  intro m ρ hpre
  exact (θ_run Cert.KernelIdeal.defs _ _).mono (fun r h => ⟨fun c => (h.1 c).2, h.2⟩)
    (Cert.KernelIdeal.Hand.run_result m (fun c i => Cert.Pre_positions_in_range.lt (hpre c) (Cert.KernelIdeal.Hand.ix30 i)) ρ)

/-- So does the reference, whatever the memory. -/
theorem frame_ri : Cert.quiescent_ReferenceIdeal := by
  intro m ρ _
  exact (θ_run Cert.ReferenceIdeal.defs _ _).mono (fun r h => ⟨fun c => (h.1 c).2, h.2⟩) (Cert.ReferenceIdeal.Hand.run m ρ)

/-- The idealized kernel runs where the draw is decided. -/
theorem frame_ki_draw : Cert.quiescent_KernelIdeal_pre_draw_is_decided := by
  intro m ρ hpre
  exact (θ_run Cert.KernelIdeal.defs _ _).mono (fun r h => ⟨fun c => (h.1 c).2, h.2⟩)
    (Cert.KernelIdeal.Hand.run_result m (fun c i => Cert.Pre_draw_is_decided.lt (hpre c).1 (Cert.KernelIdeal.Hand.ix30 i)) ρ)

/-- So does the reference. -/
theorem frame_ri_draw : Cert.quiescent_ReferenceIdeal_pre_draw_is_decided := by
  intro m ρ _
  exact (θ_run Cert.ReferenceIdeal.defs _ _).mono (fun r h => ⟨fun c => (h.1 c).2, h.2⟩) (Cert.ReferenceIdeal.Hand.run m ρ)

/-- Where the draw is decided, the kernel's product read back in the input's shape is the reference's result on the same arguments. -/
theorem value_eq (m : (ℓ : Loc Cert.KernelIdeal.nD Cert.KernelIdeal.τ Cert.KernelIdeal.sig) → Buf (Elt Ideal) ℓ)
    (hpre : Cert.Pre_KernelIdeal_draw_is_decided m) (c : Dev Cert.KernelIdeal.nD) :
    (shapeCast Cert.KernelIdeal.S2x4096x4096 (Cert.KernelIdeal.Hand.productOf (Cert.KernelIdeal.Hand.T m)
        (Cert.KernelIdeal.Hand.xOf (Cert.KernelIdeal.Hand.W3 m) c) (Cert.KernelIdeal.Hand.rowIn (Cert.KernelIdeal.Hand.W3 m) c))
        Cert.KernelIdeal.Gen.shapeCasts_S8192x4096_S2x4096x4096 : FVec Ideal Cert.KernelIdeal.S2x4096x4096 .f32)
      = Cert.ReferenceIdeal.Hand.outOf (m ((c.tc : Thread Cert.KernelIdeal.nD Cert.KernelIdeal.τ).loc Cert.KernelIdeal.main_arg0))
          (Cert.ReferenceIdeal.Hand.maskRef (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))) := by
  obtain ⟨h1, h2, h3, h4, h5⟩ := hpre c
  rw [← Cert.KernelIdeal.Hand.T_eq m c, Cert.KernelIdeal.Hand.in_row, Cert.KernelIdeal.Hand.in_x]
  unfold Cert.KernelIdeal.Hand.tableOf
  rw [Cert.KernelIdeal.Hand.mask_args]
  exact Cert.Agree.out_eq _ _ (Cert.Agree.mask_eq h1 h2 h3 h4 h5)

/-- Where the draw is decided, kernel and reference launched on equal arguments end with equal results and their arguments as launched. -/
theorem algebraic : Cert.algebraic_KernelIdeal_ReferenceIdeal_pre_draw_is_decided := by
  intro m ρ m' ρ' hpre hargs
  refine ⟨fun c => _, (θ_run Cert.KernelIdeal.defs _ _).mono (fun r h c => ⟨(h.1 c).1.trans (value_eq m hpre c), (h.1 c).2⟩)
      (Cert.KernelIdeal.Hand.run_result m (fun c i => Cert.Pre_draw_is_decided.lt (hpre c).1 (Cert.KernelIdeal.Hand.ix30 i)) ρ),
    (θ_run Cert.ReferenceIdeal.defs _ _).mono (fun r h c => ⟨?_, (h.1 c).2⟩) (Cert.ReferenceIdeal.Hand.run m' ρ')⟩
  obtain ⟨e0, e1, e2, e3, e4, e5, -, -⟩ := hargs c
  refine (h.1 c).1.trans ?_
  rw [e0, e1, e2, e3, e4, e5]

theorem claim : Cert.Claim :=
  ⟨Cert.KernelIdeal.Gen.facts, Cert.ReferenceIdeal.Gen.facts, Cert.Pre_positions_in_range.facts, Cert.Pre_draw_is_decided.facts,
    frame_ki, frame_ki_draw, frame_ri, frame_ri_draw, algebraic⟩

end Cert.Proof

end
